-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_cut [hPre_clear_cut : Cert.Pre_clear_cut.Facts] (m : (ℓ : Loc Cert.KernelIdeal.nD Cert.KernelIdeal.τ Cert.KernelIdeal.sig) → Buf (Elt Ideal) ℓ) : Prop :=
  ∀ c : Dev Cert.KernelIdeal.nD,
    (Cert.Pre_clear_cut.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_cut [hPre_clear_cut : Cert.Pre_clear_cut.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_cut.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_clear_cut [hKernelIdeal : Cert.KernelIdeal.Facts] [hPre_clear_cut : Cert.Pre_clear_cut.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_cut m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_clear_cut [hReferenceIdeal : Cert.ReferenceIdeal.Facts] [hPre_clear_cut : Cert.Pre_clear_cut.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_cut m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_clear_cut [hKernelIdeal : Cert.KernelIdeal.Facts] [hReferenceIdeal : Cert.ReferenceIdeal.Facts] [hPre_clear_cut : Cert.Pre_clear_cut.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_cut m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_clear_cut : Cert.Pre_clear_cut.Facts),
    quiescent_Kernel (hKernel := hKernel)
    ∧ quiescent_KernelIdeal (hKernelIdeal := hKernelIdeal)
    ∧ quiescent_KernelIdeal_pre_clear_cut (hKernelIdeal := hKernelIdeal) (hPre_clear_cut := hPre_clear_cut)
    ∧ quiescent_ReferenceIdeal (hReferenceIdeal := hReferenceIdeal)
    ∧ quiescent_ReferenceIdeal_pre_clear_cut (hReferenceIdeal := hReferenceIdeal) (hPre_clear_cut := hPre_clear_cut)
    ∧ preserves_Kernel_KernelIdeal
    ∧ algebraic_KernelIdeal_ReferenceIdeal_pre_clear_cut (hKernelIdeal := hKernelIdeal) (hReferenceIdeal := hReferenceIdeal) (hPre_clear_cut := hPre_clear_cut)
-- ==== Pre_clear_cut.lean ====
abbrev S8x256x32x32x16 : Shape := ⟨5, ![8, 256, 32, 32, 16]⟩
abbrev S_ : Shape := ⟨0, ![]⟩
abbrev S1x256x1x1x1 : Shape := ⟨5, ![1, 256, 1, 1, 1]⟩
abbrev S256x256 : Shape := ⟨2, ![256, 256]⟩
abbrev S8x256x32x32 : Shape := ⟨4, ![8, 256, 32, 32]⟩
abbrev S8x32x256x32 : Shape := ⟨4, ![8, 32, 256, 32]⟩
abbrev S256x256x4x8 : Shape := ⟨4, ![256, 256, 4, 8]⟩
abbrev S256x256x4 : Shape := ⟨3, ![256, 256, 4]⟩
abbrev S8x32x256x4 : Shape := ⟨4, ![8, 32, 256, 4]⟩
abbrev S8x32x4x256 : Shape := ⟨4, ![8, 32, 4, 256]⟩
abbrev S8x128x256 : Shape := ⟨3, ![8, 128, 256]⟩
abbrev S8x128x1x256 : Shape := ⟨4, ![8, 128, 1, 256]⟩
abbrev S1x1x256x256 : Shape := ⟨4, ![1, 1, 256, 256]⟩
abbrev S8x128x256x256 : Shape := ⟨4, ![8, 128, 256, 256]⟩
abbrev S8x256x128 : Shape := ⟨3, ![8, 256, 128]⟩
abbrev S8x256x1x128 : Shape := ⟨4, ![8, 256, 1, 128]⟩
abbrev S8x256x128x1 : Shape := ⟨4, ![8, 256, 128, 1]⟩
abbrev S8x256x128x128 : Shape := ⟨4, ![8, 256, 128, 128]⟩
abbrev S8x256 : Shape := ⟨2, ![8, 256]⟩

class Facts : Prop where
  reducesTo_S8x256x32x32x16_S8x256x32x32_d4 : S8x256x32x32x16.ReducesTo [4] S8x256x32x32
  h_S_ : 0 < S_.numel
  bcast_S_S8x256x32x32 : S_.BroadcastsInDim S8x256x32x32 (![] : Fin 0 → Fin S8x256x32x32.rank)
  transposes_S8x256x32x32_S8x32x256x32_0_2_1_3 : S8x256x32x32.Transposes [0, 2, 1, 3] S8x32x256x32
  shapeCasts_S8x32x256x32_S256x256x4x8 : S8x32x256x32.ShapeCasts S256x256x4x8
  reducesTo_S256x256x4x8_S256x256x4_d3 : S256x256x4x8.ReducesTo [3] S256x256x4
  bcast_S_S256x256x4 : S_.BroadcastsInDim S256x256x4 (![] : Fin 0 → Fin S256x256x4.rank)
  shapeCasts_S256x256x4_S8x32x256x4 : S256x256x4.ShapeCasts S8x32x256x4
  transposes_S8x32x256x4_S8x32x4x256_0_1_3_2 : S8x32x256x4.Transposes [0, 1, 3, 2] S8x32x4x256
  shapeCasts_S8x32x4x256_S8x128x256 : S8x32x4x256.ShapeCasts S8x128x256
  bcast_S8x128x256_S8x128x1x256_0_1_3 : S8x128x256.BroadcastsInDim S8x128x1x256 (![0, 1, 3] : Fin 3 → Fin S8x128x1x256.rank)
  bcast_S256x256_S1x1x256x256_2_3 : S256x256.BroadcastsInDim S1x1x256x256 (![2, 3] : Fin 2 → Fin S1x1x256x256.rank)
  bcast_S8x128x1x256_S8x128x256x256_0_1_2_3 : S8x128x1x256.BroadcastsInDim S8x128x256x256 (![0, 1, 2, 3] : Fin 4 → Fin S8x128x256x256.rank)
  bcast_S1x1x256x256_S8x128x256x256_0_1_2_3 : S1x1x256x256.BroadcastsInDim S8x128x256x256 (![0, 1, 2, 3] : Fin 4 → Fin S8x128x256x256.rank)
  reducesTo_S8x128x256x256_S8x128x256_d3 : S8x128x256x256.ReducesTo [3] S8x128x256
  bcast_S_S8x128x256 : S_.BroadcastsInDim S8x128x256 (![] : Fin 0 → Fin S8x128x256.rank)
  transposes_S8x128x256_S8x256x128_0_2_1 : S8x128x256.Transposes [0, 2, 1] S8x256x128
  bcast_S8x256x128_S8x256x1x128_0_1_3 : S8x256x128.BroadcastsInDim S8x256x1x128 (![0, 1, 3] : Fin 3 → Fin S8x256x1x128.rank)
  bcast_S8x256x128_S8x256x128x1_0_1_2 : S8x256x128.BroadcastsInDim S8x256x128x1 (![0, 1, 2] : Fin 3 → Fin S8x256x128x1.rank)
  bcast_S8x256x1x128_S8x256x128x128_0_1_2_3 : S8x256x1x128.BroadcastsInDim S8x256x128x128 (![0, 1, 2, 3] : Fin 4 → Fin S8x256x128x128.rank)
  bcast_S8x256x128x1_S8x256x128x128_0_1_2_3 : S8x256x128x1.BroadcastsInDim S8x256x128x128 (![0, 1, 2, 3] : Fin 4 → Fin S8x256x128x128.rank)
  natLt_1_32 : 1 < 32
  reducesTo_S8x256x128x128_S8x256x128_d3 : S8x256x128x128.ReducesTo [3] S8x256x128
  bcast_S_S8x256x128 : S_.BroadcastsInDim S8x256x128 (![] : Fin 0 → Fin S8x256x128.rank)
  reducesTo_S8x256x128_S8x256_d2 : S8x256x128.ReducesTo [2] S8x256
  reducesTo_S8x256_S_d0_1 : S8x256.ReducesTo [0, 1] S_
  bcast_S_S8x256x32x32x16 : S_.BroadcastsInDim S8x256x32x32x16 (![] : Fin 0 → Fin S8x256x32x32x16.rank)
  reducesTo_S8x256x32x32x16_S_d0_1_2_3_4 : S8x256x32x32x16.ReducesTo [0, 1, 2, 3, 4] S_
  bcast_S_S1x256x1x1x1 : S_.BroadcastsInDim S1x256x1x1x1 (![] : Fin 0 → Fin S1x256x1x1x1.rank)
  reducesTo_S1x256x1x1x1_S_d0_1_2_3_4 : S1x256x1x1x1.ReducesTo [0, 1, 2, 3, 4] S_

variable [Facts]

noncomputable abbrev lit0t0_0 (i : Nat) : BitVec 32 := match i % 128 with
  | 0 => 0x3EA069FE#32
  | 1 => 0x3E6BB748#32
  | 2 => 0x3DBAD58B#32
  | 3 => 0x3CA0086D#32
  | 4 => 0x3B12D0DF#32
  | 5 => 0x391EBB1A#32
  | 6 => 0xB692EE32#32
  | 7 => 0x36FFBDB2#32
  | 8 => 0xB6D29E9B#32
  | 9 => 0x36B0ED61#32
  | 10 => 0xB695FBC4#32
  | 11 => 0x368056F2#32
  | 12 => 0xB65DA20C#32
  | 13 => 0x3641014B#32
  | 14 => 0xB6296767#32
  | 15 => 0x3615C529#32
  | 16 => 0xB6054B76#32
  | 17 => 0x35EEB658#32
  | 18 => 0xB5D6F23A#32
  | 19 => 0x35C28A3B#32
  | 20 => 0xB5B0E6EF#32
  | 21 => 0x35A19018#32
  | 22 => 0xB5942572#32
  | 23 => 0x3588594C#32
  | 24 => 0xB57BD8F1#32
  | 25 => 0x35695670#32
  | 26 => 0xB558D5BB#32
  | 27 => 0x354A0FF9#32
  | 28 => 0xB53CCA00#32
  | 29 => 0x3530D21D#32
  | 30 => 0xB525FE56#32
  | 31 => 0x351C2B08#32
  | 32 => 0xB51339CD#32
  | 33 => 0x350B1097#32
  | 34 => 0xB50398F7#32
  | 35 => 0x34F97F13#32
  | 36 => 0xB4ECE6F7#32
  | 37 => 0x34E14C49#32
  | 38 => 0xB4D69568#32
  | 39 => 0x34CCABDA#32
  | 40 => 0xB4C37BD6#32
  | 41 => 0x34BAF3E5#32
  | 42 => 0xB4B30492#32
  | 43 => 0x34ABA023#32
  | 44 => 0xB4A4BA5F#32
  | 45 => 0x349E485F#32
  | 46 => 0xB4984061#32
  | 47 => 0x349299A5#32
  | 48 => 0xB48D4C4D#32
  | 49 => 0x34885143#32
  | 50 => 0xB483A221#32
  | 51 => 0x347E723F#32
  | 52 => 0xB4762200#32
  | 53 => 0x346E49FF#32
  | 54 => 0xB466E193#32
  | 55 => 0x345FE0DA#32
  | 56 => 0xB45940A1#32
  | 57 => 0x3452FA51#32
  | 58 => 0xB44D07E6#32
  | 59 => 0x344763DA#32
  | 60 => 0xB4420919#32
  | 61 => 0x343CF2FA#32
  | 62 => 0xB4381D32#32
  | 63 => 0x343383CC#32
  | 64 => 0xB42F2322#32
  | 65 => 0x342AF7D2#32
  | 66 => 0xB426FEBD#32
  | 67 => 0x342334FF#32
  | 68 => 0xB41F97EA#32
  | 69 => 0x341C2500#32
  | 70 => 0xB418D9F0#32
  | 71 => 0x3415B495#32
  | 72 => 0xB412B2ED#32
  | 73 => 0x340FD31A#32
  | 74 => 0xB40D1360#32
  | 75 => 0x340A721F#32
  | 76 => 0xB407EDD1#32
  | 77 => 0x3405850C#32
  | 78 => 0xB403367C#32
  | 79 => 0x340100E3#32
  | 80 => 0xB3FDC62E#32
  | 81 => 0x33F9B800#32
  | 82 => 0xB3F5D532#32
  | 83 => 0x33F21BD6#32
  | 84 => 0xB3EE8A1F#32
  | 85 => 0x33EB1E5A#32
  | 86 => 0xB3E7D6EF#32
  | 87 => 0x33E4B25D#32
  | 88 => 0xB3E1AF3D#32
  | 89 => 0x33DECC38#32
  | 90 => 0xB3DC0810#32
  | 91 => 0x33D96196#32
  | 92 => 0xB3D6D7AE#32
  | 93 => 0x33D4694B#32
  | 94 => 0xB3D21572#32
  | 95 => 0x33CFDB34#32
  | 96 => 0xB3CDB9B1#32
  | 97 => 0x33CBB015#32
  | 98 => 0xB3C9BD97#32
  | 99 => 0x33C7E17D#32
  | 100 => 0xB3C61B15#32
  | 101 => 0x33C469B8#32
  | 102 => 0xB3C2CCC7#32
  | 103 => 0x33C143B0#32
  | 104 => 0xB3BFCDE6#32
  | 105 => 0x33BE6AE7#32
  | 106 => 0xB3BD1A36#32
  | 107 => 0x33BBDB61#32
  | 108 => 0xB3BAADFB#32
  | 109 => 0x33B9919E#32
  | 110 => 0xB3B885EC#32
  | 111 => 0x33B78A8A#32
  | 112 => 0xB3B69F28#32
  | 113 => 0x33B5C377#32
  | 114 => 0xB3B4F732#32
  | 115 => 0x33B43A15#32
  | 116 => 0xB3B38BE5#32
  | 117 => 0x33B2EC6A#32
  | 118 => 0xB3B25B72#32
  | 119 => 0x33B1D8CF#32
  | 120 => 0xB3B16459#32
  | 121 => 0x33B0FDEA#32
  | 122 => 0xB3B0A563#32
  | 123 => 0x33B05AA9#32
  | 124 => 0xB3B01DA5#32
  | 125 => 0x33AFEE43#32
  | 126 => 0xB3AFCC75#32
  | 127 => 0x33AFB831#32
  | _ => 0#32

noncomputable abbrev lit0t0_1 (i : Nat) : BitVec 32 := match i % 128 with
  | 0 => 0xB3AFB170#32
  | 1 => 0x33AFB831#32
  | 2 => 0xB3AFCC75#32
  | 3 => 0x33AFEE43#32
  | 4 => 0xB3B01DA5#32
  | 5 => 0x33B05AA9#32
  | 6 => 0xB3B0A563#32
  | 7 => 0x33B0FDEA#32
  | 8 => 0xB3B16459#32
  | 9 => 0x33B1D8CF#32
  | 10 => 0xB3B25B72#32
  | 11 => 0x33B2EC6A#32
  | 12 => 0xB3B38BE5#32
  | 13 => 0x33B43A15#32
  | 14 => 0xB3B4F732#32
  | 15 => 0x33B5C377#32
  | 16 => 0xB3B69F28#32
  | 17 => 0x33B78A8A#32
  | 18 => 0xB3B885EC#32
  | 19 => 0x33B9919E#32
  | 20 => 0xB3BAADFB#32
  | 21 => 0x33BBDB61#32
  | 22 => 0xB3BD1A36#32
  | 23 => 0x33BE6AE7#32
  | 24 => 0xB3BFCDE6#32
  | 25 => 0x33C143B0#32
  | 26 => 0xB3C2CCC7#32
  | 27 => 0x33C469B8#32
  | 28 => 0xB3C61B15#32
  | 29 => 0x33C7E17D#32
  | 30 => 0xB3C9BD97#32
  | 31 => 0x33CBB015#32
  | 32 => 0xB3CDB9B1#32
  | 33 => 0x33CFDB34#32
  | 34 => 0xB3D21572#32
  | 35 => 0x33D4694B#32
  | 36 => 0xB3D6D7AE#32
  | 37 => 0x33D96196#32
  | 38 => 0xB3DC0810#32
  | 39 => 0x33DECC38#32
  | 40 => 0xB3E1AF3D#32
  | 41 => 0x33E4B25D#32
  | 42 => 0xB3E7D6EF#32
  | 43 => 0x33EB1E5A#32
  | 44 => 0xB3EE8A1F#32
  | 45 => 0x33F21BD6#32
  | 46 => 0xB3F5D532#32
  | 47 => 0x33F9B800#32
  | 48 => 0xB3FDC62E#32
  | 49 => 0x340100E3#32
  | 50 => 0xB403367C#32
  | 51 => 0x3405850C#32
  | 52 => 0xB407EDD1#32
  | 53 => 0x340A721F#32
  | 54 => 0xB40D1360#32
  | 55 => 0x340FD31A#32
  | 56 => 0xB412B2ED#32
  | 57 => 0x3415B495#32
  | 58 => 0xB418D9F0#32
  | 59 => 0x341C2500#32
  | 60 => 0xB41F97EA#32
  | 61 => 0x342334FF#32
  | 62 => 0xB426FEBD#32
  | 63 => 0x342AF7D2#32
  | 64 => 0xB42F2322#32
  | 65 => 0x343383CC#32
  | 66 => 0xB4381D32#32
  | 67 => 0x343CF2FA#32
  | 68 => 0xB4420919#32
  | 69 => 0x344763DA#32
  | 70 => 0xB44D07E6#32
  | 71 => 0x3452FA51#32
  | 72 => 0xB45940A1#32
  | 73 => 0x345FE0DA#32
  | 74 => 0xB466E193#32
  | 75 => 0x346E49FF#32
  | 76 => 0xB4762200#32
  | 77 => 0x347E723F#32
  | 78 => 0xB483A221#32
  | 79 => 0x34885143#32
  | 80 => 0xB48D4C4D#32
  | 81 => 0x349299A5#32
  | 82 => 0xB4984061#32
  | 83 => 0x349E485F#32
  | 84 => 0xB4A4BA5F#32
  | 85 => 0x34ABA023#32
  | 86 => 0xB4B30492#32
  | 87 => 0x34BAF3E5#32
  | 88 => 0xB4C37BD6#32
  | 89 => 0x34CCABDA#32
  | 90 => 0xB4D69568#32
  | 91 => 0x34E14C49#32
  | 92 => 0xB4ECE6F7#32
  | 93 => 0x34F97F13#32
  | 94 => 0xB50398F7#32
  | 95 => 0x350B1097#32
  | 96 => 0xB51339CD#32
  | 97 => 0x351C2B08#32
  | 98 => 0xB525FE56#32
  | 99 => 0x3530D21D#32
  | 100 => 0xB53CCA00#32
  | 101 => 0x354A0FF9#32
  | 102 => 0xB558D5BB#32
  | 103 => 0x35695670#32
  | 104 => 0xB57BD8F1#32
  | 105 => 0x3588594C#32
  | 106 => 0xB5942572#32
  | 107 => 0x35A19018#32
  | 108 => 0xB5B0E6EF#32
  | 109 => 0x35C28A3B#32
  | 110 => 0xB5D6F23A#32
  | 111 => 0x35EEB658#32
  | 112 => 0xB6054B76#32
  | 113 => 0x3615C529#32
  | 114 => 0xB6296767#32
  | 115 => 0x3641014B#32
  | 116 => 0xB65DA20C#32
  | 117 => 0x368056F2#32
  | 118 => 0xB695FBC4#32
  | 119 => 0x36B0ED61#32
  | 120 => 0xB6D29E9B#32
  | 121 => 0x36FFBDB2#32
  | 122 => 0xB692EE32#32
  | 123 => 0x391EBB1A#32
  | 124 => 0x3B12D0DF#32
  | 125 => 0x3CA0086D#32
  | 126 => 0x3DBAD58B#32
  | 127 => 0x3E6BB748#32
  | _ => 0#32

noncomputable abbrev lit0t0_2 (i : Nat) : BitVec 32 := match i % 128 with
  | 0 => 0x3E6BB748#32
  | 1 => 0x3EA069FE#32
  | 2 => 0x3E6BB748#32
  | 3 => 0x3DBAD58B#32
  | 4 => 0x3CA0086D#32
  | 5 => 0x3B12D0DF#32
  | 6 => 0x391EBB1A#32
  | 7 => 0xB692EE32#32
  | 8 => 0x36FFBDB2#32
  | 9 => 0xB6D29E9B#32
  | 10 => 0x36B0ED61#32
  | 11 => 0xB695FBC4#32
  | 12 => 0x368056F2#32
  | 13 => 0xB65DA20C#32
  | 14 => 0x3641014B#32
  | 15 => 0xB6296767#32
  | 16 => 0x3615C529#32
  | 17 => 0xB6054B76#32
  | 18 => 0x35EEB658#32
  | 19 => 0xB5D6F23A#32
  | 20 => 0x35C28A3B#32
  | 21 => 0xB5B0E6EF#32
  | 22 => 0x35A19018#32
  | 23 => 0xB5942572#32
  | 24 => 0x3588594C#32
  | 25 => 0xB57BD8F1#32
  | 26 => 0x35695670#32
  | 27 => 0xB558D5BB#32
  | 28 => 0x354A0FF9#32
  | 29 => 0xB53CCA00#32
  | 30 => 0x3530D21D#32
  | 31 => 0xB525FE56#32
  | 32 => 0x351C2B08#32
  | 33 => 0xB51339CD#32
  | 34 => 0x350B1097#32
  | 35 => 0xB50398F7#32
  | 36 => 0x34F97F13#32
  | 37 => 0xB4ECE6F7#32
  | 38 => 0x34E14C49#32
  | 39 => 0xB4D69568#32
  | 40 => 0x34CCABDA#32
  | 41 => 0xB4C37BD6#32
  | 42 => 0x34BAF3E5#32
  | 43 => 0xB4B30492#32
  | 44 => 0x34ABA023#32
  | 45 => 0xB4A4BA5F#32
  | 46 => 0x349E485F#32
  | 47 => 0xB4984061#32
  | 48 => 0x349299A5#32
  | 49 => 0xB48D4C4D#32
  | 50 => 0x34885143#32
  | 51 => 0xB483A221#32
  | 52 => 0x347E723F#32
  | 53 => 0xB4762200#32
  | 54 => 0x346E49FF#32
  | 55 => 0xB466E193#32
  | 56 => 0x345FE0DA#32
  | 57 => 0xB45940A1#32
  | 58 => 0x3452FA51#32
  | 59 => 0xB44D07E6#32
  | 60 => 0x344763DA#32
  | 61 => 0xB4420919#32
  | 62 => 0x343CF2FA#32
  | 63 => 0xB4381D32#32
  | 64 => 0x343383CC#32
  | 65 => 0xB42F2322#32
  | 66 => 0x342AF7D2#32
  | 67 => 0xB426FEBD#32
  | 68 => 0x342334FF#32
  | 69 => 0xB41F97EA#32
  | 70 => 0x341C2500#32
  | 71 => 0xB418D9F0#32
  | 72 => 0x3415B495#32
  | 73 => 0xB412B2ED#32
  | 74 => 0x340FD31A#32
  | 75 => 0xB40D1360#32
  | 76 => 0x340A721F#32
  | 77 => 0xB407EDD1#32
  | 78 => 0x3405850C#32
  | 79 => 0xB403367C#32
  | 80 => 0x340100E3#32
  | 81 => 0xB3FDC62E#32
  | 82 => 0x33F9B800#32
  | 83 => 0xB3F5D532#32
  | 84 => 0x33F21BD6#32
  | 85 => 0xB3EE8A1F#32
  | 86 => 0x33EB1E5A#32
  | 87 => 0xB3E7D6EF#32
  | 88 => 0x33E4B25D#32
  | 89 => 0xB3E1AF3D#32
  | 90 => 0x33DECC38#32
  | 91 => 0xB3DC0810#32
  | 92 => 0x33D96196#32
  | 93 => 0xB3D6D7AE#32
  | 94 => 0x33D4694B#32
  | 95 => 0xB3D21572#32
  | 96 => 0x33CFDB34#32
  | 97 => 0xB3CDB9B1#32
  | 98 => 0x33CBB015#32
  | 99 => 0xB3C9BD97#32
  | 100 => 0x33C7E17D#32
  | 101 => 0xB3C61B15#32
  | 102 => 0x33C469B8#32
  | 103 => 0xB3C2CCC7#32
  | 104 => 0x33C143B0#32
  | 105 => 0xB3BFCDE6#32
  | 106 => 0x33BE6AE7#32
  | 107 => 0xB3BD1A36#32
  | 108 => 0x33BBDB61#32
  | 109 => 0xB3BAADFB#32
  | 110 => 0x33B9919E#32
  | 111 => 0xB3B885EC#32
  | 112 => 0x33B78A8A#32
  | 113 => 0xB3B69F28#32
  | 114 => 0x33B5C377#32
  | 115 => 0xB3B4F732#32
  | 116 => 0x33B43A15#32
  | 117 => 0xB3B38BE5#32
  | 118 => 0x33B2EC6A#32
  | 119 => 0xB3B25B72#32
  | 120 => 0x33B1D8CF#32
  | 121 => 0xB3B16459#32
  | 122 => 0x33B0FDEA#32
  | 123 => 0xB3B0A563#32
  | 124 => 0x33B05AA9#32
  | 125 => 0xB3B01DA5#32
  | 126 => 0x33AFEE43#32
  | 127 => 0xB3AFCC75#32
  | _ => 0#32

noncomputable abbrev lit0t0_3 (i : Nat) : BitVec 32 := match i % 128 with
  | 0 => 0x33AFB831#32
  | 1 => 0xB3AFB170#32
  | 2 => 0x33AFB831#32
  | 3 => 0xB3AFCC75#32
  | 4 => 0x33AFEE43#32
  | 5 => 0xB3B01DA5#32
  | 6 => 0x33B05AA9#32
  | 7 => 0xB3B0A563#32
  | 8 => 0x33B0FDEA#32
  | 9 => 0xB3B16459#32
  | 10 => 0x33B1D8CF#32
  | 11 => 0xB3B25B72#32
  | 12 => 0x33B2EC6A#32
  | 13 => 0xB3B38BE5#32
  | 14 => 0x33B43A15#32
  | 15 => 0xB3B4F732#32
  | 16 => 0x33B5C377#32
  | 17 => 0xB3B69F28#32
  | 18 => 0x33B78A8A#32
  | 19 => 0xB3B885EC#32
  | 20 => 0x33B9919E#32
  | 21 => 0xB3BAADFB#32
  | 22 => 0x33BBDB61#32
  | 23 => 0xB3BD1A36#32
  | 24 => 0x33BE6AE7#32
  | 25 => 0xB3BFCDE6#32
  | 26 => 0x33C143B0#32
  | 27 => 0xB3C2CCC7#32
  | 28 => 0x33C469B8#32
  | 29 => 0xB3C61B15#32
  | 30 => 0x33C7E17D#32
  | 31 => 0xB3C9BD97#32
  | 32 => 0x33CBB015#32
  | 33 => 0xB3CDB9B1#32
  | 34 => 0x33CFDB34#32
  | 35 => 0xB3D21572#32
  | 36 => 0x33D4694B#32
  | 37 => 0xB3D6D7AE#32
  | 38 => 0x33D96196#32
  | 39 => 0xB3DC0810#32
  | 40 => 0x33DECC38#32
  | 41 => 0xB3E1AF3D#32
  | 42 => 0x33E4B25D#32
  | 43 => 0xB3E7D6EF#32
  | 44 => 0x33EB1E5A#32
  | 45 => 0xB3EE8A1F#32
  | 46 => 0x33F21BD6#32
  | 47 => 0xB3F5D532#32
  | 48 => 0x33F9B800#32
  | 49 => 0xB3FDC62E#32
  | 50 => 0x340100E3#32
  | 51 => 0xB403367C#32
  | 52 => 0x3405850C#32
  | 53 => 0xB407EDD1#32
  | 54 => 0x340A721F#32
  | 55 => 0xB40D1360#32
  | 56 => 0x340FD31A#32
  | 57 => 0xB412B2ED#32
  | 58 => 0x3415B495#32
  | 59 => 0xB418D9F0#32
  | 60 => 0x341C2500#32
  | 61 => 0xB41F97EA#32
  | 62 => 0x342334FF#32
  | 63 => 0xB426FEBD#32
  | 64 => 0x342AF7D2#32
  | 65 => 0xB42F2322#32
  | 66 => 0x343383CC#32
  | 67 => 0xB4381D32#32
  | 68 => 0x343CF2FA#32
  | 69 => 0xB4420919#32
  | 70 => 0x344763DA#32
  | 71 => 0xB44D07E6#32
  | 72 => 0x3452FA51#32
  | 73 => 0xB45940A1#32
  | 74 => 0x345FE0DA#32
  | 75 => 0xB466E193#32
  | 76 => 0x346E49FF#32
  | 77 => 0xB4762200#32
  | 78 => 0x347E723F#32
  | 79 => 0xB483A221#32
  | 80 => 0x34885143#32
  | 81 => 0xB48D4C4D#32
  | 82 => 0x349299A5#32
  | 83 => 0xB4984061#32
  | 84 => 0x349E485F#32
  | 85 => 0xB4A4BA5F#32
  | 86 => 0x34ABA023#32
  | 87 => 0xB4B30492#32
  | 88 => 0x34BAF3E5#32
  | 89 => 0xB4C37BD6#32
  | 90 => 0x34CCABDA#32
  | 91 => 0xB4D69568#32
  | 92 => 0x34E14C49#32
  | 93 => 0xB4ECE6F7#32
  | 94 => 0x34F97F13#32
  | 95 => 0xB50398F7#32
  | 96 => 0x350B1097#32
  | 97 => 0xB51339CD#32
  | 98 => 0x351C2B08#32
  | 99 => 0xB525FE56#32
  | 100 => 0x3530D21D#32
  | 101 => 0xB53CCA00#32
  | 102 => 0x354A0FF9#32
  | 103 => 0xB558D5BB#32
  | 104 => 0x35695670#32
  | 105 => 0xB57BD8F1#32
  | 106 => 0x3588594C#32
  | 107 => 0xB5942572#32
  | 108 => 0x35A19018#32
  | 109 => 0xB5B0E6EF#32
  | 110 => 0x35C28A3B#32
  | 111 => 0xB5D6F23A#32
  | 112 => 0x35EEB658#32
  | 113 => 0xB6054B76#32
  | 114 => 0x3615C529#32
  | 115 => 0xB6296767#32
  | 116 => 0x3641014B#32
  | 117 => 0xB65DA20C#32
  | 118 => 0x368056F2#32
  | 119 => 0xB695FBC4#32
  | 120 => 0x36B0ED61#32
  | 121 => 0xB6D29E9B#32
  | 122 => 0x36FFBDB2#32
  | 123 => 0xB692EE32#32
  | 124 => 0x391EBB1A#32
  | 125 => 0x3B12D0DF#32
  | 126 => 0x3CA0086D#32
  | 127 => 0x3DBAD58B#32
  | _ => 0#32

noncomputable abbrev lit0t0_4 (i : Nat) : BitVec 32 := match i % 128 with
  | 0 => 0x3DBAD58B#32
  | 1 => 0x3E6BB748#32
  | 2 => 0x3EA069FE#32
  | 3 => 0x3E6BB748#32
  | 4 => 0x3DBAD58B#32
  | 5 => 0x3CA0086D#32
  | 6 => 0x3B12D0DF#32
  | 7 => 0x391EBB1A#32
  | 8 => 0xB692EE32#32
  | 9 => 0x36FFBDB2#32
  | 10 => 0xB6D29E9B#32
  | 11 => 0x36B0ED61#32
  | 12 => 0xB695FBC4#32
  | 13 => 0x368056F2#32
  | 14 => 0xB65DA20C#32
  | 15 => 0x3641014B#32
  | 16 => 0xB6296767#32
  | 17 => 0x3615C529#32
  | 18 => 0xB6054B76#32
  | 19 => 0x35EEB658#32
  | 20 => 0xB5D6F23A#32
  | 21 => 0x35C28A3B#32
  | 22 => 0xB5B0E6EF#32
  | 23 => 0x35A19018#32
  | 24 => 0xB5942572#32
  | 25 => 0x3588594C#32
  | 26 => 0xB57BD8F1#32
  | 27 => 0x35695670#32
  | 28 => 0xB558D5BB#32
  | 29 => 0x354A0FF9#32
  | 30 => 0xB53CCA00#32
  | 31 => 0x3530D21D#32
  | 32 => 0xB525FE56#32
  | 33 => 0x351C2B08#32
  | 34 => 0xB51339CD#32
  | 35 => 0x350B1097#32
  | 36 => 0xB50398F7#32
  | 37 => 0x34F97F13#32
  | 38 => 0xB4ECE6F7#32
  | 39 => 0x34E14C49#32
  | 40 => 0xB4D69568#32
  | 41 => 0x34CCABDA#32
  | 42 => 0xB4C37BD6#32
  | 43 => 0x34BAF3E5#32
  | 44 => 0xB4B30492#32
  | 45 => 0x34ABA023#32
  | 46 => 0xB4A4BA5F#32
  | 47 => 0x349E485F#32
  | 48 => 0xB4984061#32
  | 49 => 0x349299A5#32
  | 50 => 0xB48D4C4D#32
  | 51 => 0x34885143#32
  | 52 => 0xB483A221#32
  | 53 => 0x347E723F#32
  | 54 => 0xB4762200#32
  | 55 => 0x346E49FF#32
  | 56 => 0xB466E193#32
  | 57 => 0x345FE0DA#32
  | 58 => 0xB45940A1#32
  | 59 => 0x3452FA51#32
  | 60 => 0xB44D07E6#32
  | 61 => 0x344763DA#32
  | 62 => 0xB4420919#32
  | 63 => 0x343CF2FA#32
  | 64 => 0xB4381D32#32
  | 65 => 0x343383CC#32
  | 66 => 0xB42F2322#32
  | 67 => 0x342AF7D2#32
  | 68 => 0xB426FEBD#32
  | 69 => 0x342334FF#32
  | 70 => 0xB41F97EA#32
  | 71 => 0x341C2500#32
  | 72 => 0xB418D9F0#32
  | 73 => 0x3415B495#32
  | 74 => 0xB412B2ED#32
  | 75 => 0x340FD31A#32
  | 76 => 0xB40D1360#32
  | 77 => 0x340A721F#32
  | 78 => 0xB407EDD1#32
  | 79 => 0x3405850C#32
  | 80 => 0xB403367C#32
  | 81 => 0x340100E3#32
  | 82 => 0xB3FDC62E#32
  | 83 => 0x33F9B800#32
  | 84 => 0xB3F5D532#32
  | 85 => 0x33F21BD6#32
  | 86 => 0xB3EE8A1F#32
  | 87 => 0x33EB1E5A#32
  | 88 => 0xB3E7D6EF#32
  | 89 => 0x33E4B25D#32
  | 90 => 0xB3E1AF3D#32
  | 91 => 0x33DECC38#32
  | 92 => 0xB3DC0810#32
  | 93 => 0x33D96196#32
  | 94 => 0xB3D6D7AE#32
  | 95 => 0x33D4694B#32
  | 96 => 0xB3D21572#32
  | 97 => 0x33CFDB34#32
  | 98 => 0xB3CDB9B1#32
  | 99 => 0x33CBB015#32
  | 100 => 0xB3C9BD97#32
  | 101 => 0x33C7E17D#32
  | 102 => 0xB3C61B15#32
  | 103 => 0x33C469B8#32
  | 104 => 0xB3C2CCC7#32
  | 105 => 0x33C143B0#32
  | 106 => 0xB3BFCDE6#32
  | 107 => 0x33BE6AE7#32
  | 108 => 0xB3BD1A36#32
  | 109 => 0x33BBDB61#32
  | 110 => 0xB3BAADFB#32
  | 111 => 0x33B9919E#32
  | 112 => 0xB3B885EC#32
  | 113 => 0x33B78A8A#32
  | 114 => 0xB3B69F28#32
  | 115 => 0x33B5C377#32
  | 116 => 0xB3B4F732#32
  | 117 => 0x33B43A15#32
  | 118 => 0xB3B38BE5#32
  | 119 => 0x33B2EC6A#32
  | 120 => 0xB3B25B72#32
  | 121 => 0x33B1D8CF#32
  | 122 => 0xB3B16459#32
  | 123 => 0x33B0FDEA#32
  | 124 => 0xB3B0A563#32
  | 125 => 0x33B05AA9#32
  | 126 => 0xB3B01DA5#32
  | 127 => 0x33AFEE43#32
  | _ => 0#32

noncomputable abbrev lit0t0_5 (i : Nat) : BitVec 32 := match i % 128 with
  | 0 => 0xB3AFCC75#32
  | 1 => 0x33AFB831#32
  | 2 => 0xB3AFB170#32
  | 3 => 0x33AFB831#32
  | 4 => 0xB3AFCC75#32
  | 5 => 0x33AFEE43#32
  | 6 => 0xB3B01DA5#32
  | 7 => 0x33B05AA9#32
  | 8 => 0xB3B0A563#32
  | 9 => 0x33B0FDEA#32
  | 10 => 0xB3B16459#32
  | 11 => 0x33B1D8CF#32
  | 12 => 0xB3B25B72#32
  | 13 => 0x33B2EC6A#32
  | 14 => 0xB3B38BE5#32
  | 15 => 0x33B43A15#32
  | 16 => 0xB3B4F732#32
  | 17 => 0x33B5C377#32
  | 18 => 0xB3B69F28#32
  | 19 => 0x33B78A8A#32
  | 20 => 0xB3B885EC#32
  | 21 => 0x33B9919E#32
  | 22 => 0xB3BAADFB#32
  | 23 => 0x33BBDB61#32
  | 24 => 0xB3BD1A36#32
  | 25 => 0x33BE6AE7#32
  | 26 => 0xB3BFCDE6#32
  | 27 => 0x33C143B0#32
  | 28 => 0xB3C2CCC7#32
  | 29 => 0x33C469B8#32
  | 30 => 0xB3C61B15#32
  | 31 => 0x33C7E17D#32
  | 32 => 0xB3C9BD97#32
  | 33 => 0x33CBB015#32
  | 34 => 0xB3CDB9B1#32
  | 35 => 0x33CFDB34#32
  | 36 => 0xB3D21572#32
  | 37 => 0x33D4694B#32
  | 38 => 0xB3D6D7AE#32
  | 39 => 0x33D96196#32
  | 40 => 0xB3DC0810#32
  | 41 => 0x33DECC38#32
  | 42 => 0xB3E1AF3D#32
  | 43 => 0x33E4B25D#32
  | 44 => 0xB3E7D6EF#32
  | 45 => 0x33EB1E5A#32
  | 46 => 0xB3EE8A1F#32
  | 47 => 0x33F21BD6#32
  | 48 => 0xB3F5D532#32
  | 49 => 0x33F9B800#32
  | 50 => 0xB3FDC62E#32
  | 51 => 0x340100E3#32
  | 52 => 0xB403367C#32
  | 53 => 0x3405850C#32
  | 54 => 0xB407EDD1#32
  | 55 => 0x340A721F#32
  | 56 => 0xB40D1360#32
  | 57 => 0x340FD31A#32
  | 58 => 0xB412B2ED#32
  | 59 => 0x3415B495#32
  | 60 => 0xB418D9F0#32
  | 61 => 0x341C2500#32
  | 62 => 0xB41F97EA#32
  | 63 => 0x342334FF#32
  | 64 => 0xB426FEBD#32
  | 65 => 0x342AF7D2#32
  | 66 => 0xB42F2322#32
  | 67 => 0x343383CC#32
  | 68 => 0xB4381D32#32
  | 69 => 0x343CF2FA#32
  | 70 => 0xB4420919#32
  | 71 => 0x344763DA#32
  | 72 => 0xB44D07E6#32
  | 73 => 0x3452FA51#32
  | 74 => 0xB45940A1#32
  | 75 => 0x345FE0DA#32
  | 76 => 0xB466E193#32
  | 77 => 0x346E49FF#32
  | 78 => 0xB4762200#32
  | 79 => 0x347E723F#32
  | 80 => 0xB483A221#32
  | 81 => 0x34885142#32
  | 82 => 0xB48D4C4D#32
  | 83 => 0x349299A5#32
  | 84 => 0xB4984061#32
  | 85 => 0x349E485F#32
  | 86 => 0xB4A4BA5F#32
  | 87 => 0x34ABA023#32
  | 88 => 0xB4B30492#32
  | 89 => 0x34BAF3E5#32
  | 90 => 0xB4C37BD6#32
  | 91 => 0x34CCABDA#32
  | 92 => 0xB4D69568#32
  | 93 => 0x34E14C49#32
  | 94 => 0xB4ECE6F7#32
  | 95 => 0x34F97F13#32
  | 96 => 0xB50398F7#32
  | 97 => 0x350B1097#32
  | 98 => 0xB51339CD#32
  | 99 => 0x351C2B08#32
  | 100 => 0xB525FE56#32
  | 101 => 0x3530D21D#32
  | 102 => 0xB53CCA00#32
  | 103 => 0x354A0FF9#32
  | 104 => 0xB558D5BB#32
  | 105 => 0x35695670#32
  | 106 => 0xB57BD8F1#32
  | 107 => 0x3588594C#32
  | 108 => 0xB5942572#32
  | 109 => 0x35A19018#32
  | 110 => 0xB5B0E6EF#32
  | 111 => 0x35C28A3B#32
  | 112 => 0xB5D6F23A#32
  | 113 => 0x35EEB658#32
  | 114 => 0xB6054B76#32
  | 115 => 0x3615C529#32
  | 116 => 0xB6296767#32
  | 117 => 0x3641014B#32
  | 118 => 0xB65DA20C#32
  | 119 => 0x368056F2#32
  | 120 => 0xB695FBC4#32
  | 121 => 0x36B0ED61#32
  | 122 => 0xB6D29E9B#32
  | 123 => 0x36FFBDB2#32
  | 124 => 0xB692EE32#32
  | 125 => 0x391EBB1A#32
  | 126 => 0x3B12D0DF#32
  | 127 => 0x3CA0086D#32
  | _ => 0#32

noncomputable abbrev lit0t0_6 (i : Nat) : BitVec 32 := match i % 128 with
  | 0 => 0x3CA0086D#32
  | 1 => 0x3DBAD58B#32
  | 2 => 0x3E6BB748#32
  | 3 => 0x3EA069FE#32
  | 4 => 0x3E6BB748#32
  | 5 => 0x3DBAD58B#32
  | 6 => 0x3CA0086D#32
  | 7 => 0x3B12D0DF#32
  | 8 => 0x391EBB1A#32
  | 9 => 0xB692EE32#32
  | 10 => 0x36FFBDB2#32
  | 11 => 0xB6D29E9B#32
  | 12 => 0x36B0ED61#32
  | 13 => 0xB695FBC4#32
  | 14 => 0x368056F2#32
  | 15 => 0xB65DA20C#32
  | 16 => 0x3641014B#32
  | 17 => 0xB6296767#32
  | 18 => 0x3615C529#32
  | 19 => 0xB6054B76#32
  | 20 => 0x35EEB658#32
  | 21 => 0xB5D6F23A#32
  | 22 => 0x35C28A3B#32
  | 23 => 0xB5B0E6EF#32
  | 24 => 0x35A19018#32
  | 25 => 0xB5942572#32
  | 26 => 0x3588594C#32
  | 27 => 0xB57BD8F1#32
  | 28 => 0x35695670#32
  | 29 => 0xB558D5BB#32
  | 30 => 0x354A0FF9#32
  | 31 => 0xB53CCA00#32
  | 32 => 0x3530D21D#32
  | 33 => 0xB525FE56#32
  | 34 => 0x351C2B08#32
  | 35 => 0xB51339CD#32
  | 36 => 0x350B1097#32
  | 37 => 0xB50398F7#32
  | 38 => 0x34F97F13#32
  | 39 => 0xB4ECE6F7#32
  | 40 => 0x34E14C49#32
  | 41 => 0xB4D69568#32
  | 42 => 0x34CCABDA#32
  | 43 => 0xB4C37BD6#32
  | 44 => 0x34BAF3E5#32
  | 45 => 0xB4B30492#32
  | 46 => 0x34ABA023#32
  | 47 => 0xB4A4BA5F#32
  | 48 => 0x349E485F#32
  | 49 => 0xB4984061#32
  | 50 => 0x349299A5#32
  | 51 => 0xB48D4C4D#32
  | 52 => 0x34885143#32
  | 53 => 0xB483A221#32
  | 54 => 0x347E723F#32
  | 55 => 0xB4762200#32
  | 56 => 0x346E49FF#32
  | 57 => 0xB466E193#32
  | 58 => 0x345FE0DA#32
  | 59 => 0xB45940A1#32
  | 60 => 0x3452FA51#32
  | 61 => 0xB44D07E6#32
  | 62 => 0x344763DA#32
  | 63 => 0xB4420919#32
  | 64 => 0x343CF2FA#32
  | 65 => 0xB4381D32#32
  | 66 => 0x343383CC#32
  | 67 => 0xB42F2322#32
  | 68 => 0x342AF7D2#32
  | 69 => 0xB426FEBD#32
  | 70 => 0x342334FF#32
  | 71 => 0xB41F97EA#32
  | 72 => 0x341C2500#32
  | 73 => 0xB418D9F0#32
  | 74 => 0x3415B495#32
  | 75 => 0xB412B2ED#32
  | 76 => 0x340FD31A#32
  | 77 => 0xB40D1360#32
  | 78 => 0x340A721F#32
  | 79 => 0xB407EDD1#32
  | 80 => 0x3405850C#32
  | 81 => 0xB403367C#32
  | 82 => 0x340100E3#32
  | 83 => 0xB3FDC62E#32
  | 84 => 0x33F9B800#32
  | 85 => 0xB3F5D532#32
  | 86 => 0x33F21BD6#32
  | 87 => 0xB3EE8A1F#32
  | 88 => 0x33EB1E5A#32
  | 89 => 0xB3E7D6EF#32
  | 90 => 0x33E4B25D#32
  | 91 => 0xB3E1AF3D#32
  | 92 => 0x33DECC38#32
  | 93 => 0xB3DC0810#32
  | 94 => 0x33D96196#32
  | 95 => 0xB3D6D7AE#32
  | 96 => 0x33D4694B#32
  | 97 => 0xB3D21572#32
  | 98 => 0x33CFDB34#32
  | 99 => 0xB3CDB9B1#32
  | 100 => 0x33CBB015#32
  | 101 => 0xB3C9BD97#32
  | 102 => 0x33C7E17D#32
  | 103 => 0xB3C61B15#32
  | 104 => 0x33C469B8#32
  | 105 => 0xB3C2CCC7#32
  | 106 => 0x33C143B0#32
  | 107 => 0xB3BFCDE6#32
  | 108 => 0x33BE6AE7#32
  | 109 => 0xB3BD1A36#32
  | 110 => 0x33BBDB61#32
  | 111 => 0xB3BAADFB#32
  | 112 => 0x33B9919E#32
  | 113 => 0xB3B885EC#32
  | 114 => 0x33B78A8A#32
  | 115 => 0xB3B69F28#32
  | 116 => 0x33B5C377#32
  | 117 => 0xB3B4F732#32
  | 118 => 0x33B43A15#32
  | 119 => 0xB3B38BE5#32
  | 120 => 0x33B2EC6A#32
  | 121 => 0xB3B25B72#32
  | 122 => 0x33B1D8CF#32
  | 123 => 0xB3B16459#32
  | 124 => 0x33B0FDEA#32
  | 125 => 0xB3B0A563#32
  | 126 => 0x33B05AA9#32
  | 127 => 0xB3B01DA5#32
  | _ => 0#32

noncomputable abbrev lit0t0_7 (i : Nat) : BitVec 32 := match i % 128 with
  | 0 => 0x33AFEE43#32
  | 1 => 0xB3AFCC75#32
  | 2 => 0x33AFB831#32
  | 3 => 0xB3AFB170#32
  | 4 => 0x33AFB831#32
  | 5 => 0xB3AFCC75#32
  | 6 => 0x33AFEE43#32
  | 7 => 0xB3B01DA5#32
  | 8 => 0x33B05AA9#32
  | 9 => 0xB3B0A563#32
  | 10 => 0x33B0FDEA#32
  | 11 => 0xB3B16459#32
  | 12 => 0x33B1D8CF#32
  | 13 => 0xB3B25B72#32
  | 14 => 0x33B2EC6A#32
  | 15 => 0xB3B38BE5#32
  | 16 => 0x33B43A15#32
  | 17 => 0xB3B4F732#32
  | 18 => 0x33B5C377#32
  | 19 => 0xB3B69F28#32
  | 20 => 0x33B78A8A#32
  | 21 => 0xB3B885EC#32
  | 22 => 0x33B9919E#32
  | 23 => 0xB3BAADFB#32
  | 24 => 0x33BBDB61#32
  | 25 => 0xB3BD1A36#32
  | 26 => 0x33BE6AE7#32
  | 27 => 0xB3BFCDE6#32
  | 28 => 0x33C143B0#32
  | 29 => 0xB3C2CCC7#32
  | 30 => 0x33C469B8#32
  | 31 => 0xB3C61B15#32
  | 32 => 0x33C7E17D#32
  | 33 => 0xB3C9BD97#32
  | 34 => 0x33CBB015#32
  | 35 => 0xB3CDB9B1#32
  | 36 => 0x33CFDB34#32
  | 37 => 0xB3D21572#32
  | 38 => 0x33D4694B#32
  | 39 => 0xB3D6D7AE#32
  | 40 => 0x33D96196#32
  | 41 => 0xB3DC0810#32
  | 42 => 0x33DECC38#32
  | 43 => 0xB3E1AF3D#32
  | 44 => 0x33E4B25D#32
  | 45 => 0xB3E7D6EF#32
  | 46 => 0x33EB1E5A#32
  | 47 => 0xB3EE8A1F#32
  | 48 => 0x33F21BD6#32
  | 49 => 0xB3F5D532#32
  | 50 => 0x33F9B800#32
  | 51 => 0xB3FDC62E#32
  | 52 => 0x340100E3#32
  | 53 => 0xB403367C#32
  | 54 => 0x3405850C#32
  | 55 => 0xB407EDD1#32
  | 56 => 0x340A721F#32
  | 57 => 0xB40D1360#32
  | 58 => 0x340FD31A#32
  | 59 => 0xB412B2ED#32
  | 60 => 0x3415B495#32
  | 61 => 0xB418D9F0#32
  | 62 => 0x341C2500#32
  | 63 => 0xB41F97EA#32
  | 64 => 0x342334FF#32
  | 65 => 0xB426FEBD#32
  | 66 => 0x342AF7D2#32
  | 67 => 0xB42F2322#32
  | 68 => 0x343383CC#32
  | 69 => 0xB4381D32#32
  | 70 => 0x343CF2FA#32
  | 71 => 0xB4420919#32
  | 72 => 0x344763DA#32
  | 73 => 0xB44D07E6#32
  | 74 => 0x3452FA51#32
  | 75 => 0xB45940A1#32
  | 76 => 0x345FE0DA#32
  | 77 => 0xB466E193#32
  | 78 => 0x346E49FF#32
  | 79 => 0xB4762200#32
  | 80 => 0x347E723F#32
  | 81 => 0xB483A221#32
  | 82 => 0x34885143#32
  | 83 => 0xB48D4C4D#32
  | 84 => 0x349299A5#32
  | 85 => 0xB4984061#32
  | 86 => 0x349E485F#32
  | 87 => 0xB4A4BA5F#32
  | 88 => 0x34ABA023#32
  | 89 => 0xB4B30492#32
  | 90 => 0x34BAF3E5#32
  | 91 => 0xB4C37BD6#32
  | 92 => 0x34CCABDA#32
  | 93 => 0xB4D69568#32
  | 94 => 0x34E14C49#32
  | 95 => 0xB4ECE6F7#32
  | 96 => 0x34F97F13#32
  | 97 => 0xB50398F7#32
  | 98 => 0x350B1097#32
  | 99 => 0xB51339CD#32
  | 100 => 0x351C2B08#32
  | 101 => 0xB525FE56#32
  | 102 => 0x3530D21D#32
  | 103 => 0xB53CCA00#32
  | 104 => 0x354A0FF9#32
  | 105 => 0xB558D5BB#32
  | 106 => 0x35695670#32
  | 107 => 0xB57BD8F1#32
  | 108 => 0x3588594C#32
  | 109 => 0xB5942572#32
  | 110 => 0x35A19018#32
  | 111 => 0xB5B0E6EF#32
  | 112 => 0x35C28A3B#32
  | 113 => 0xB5D6F23A#32
  | 114 => 0x35EEB658#32
  | 115 => 0xB6054B76#32
  | 116 => 0x3615C529#32
  | 117 => 0xB6296767#32
  | 118 => 0x3641014B#32
  | 119 => 0xB65DA20C#32
  | 120 => 0x368056F2#32
  | 121 => 0xB695FBC4#32
  | 122 => 0x36B0ED61#32
  | 123 => 0xB6D29E9B#32
  | 124 => 0x36FFBDB2#32
  | 125 => 0xB692EE32#32
  | 126 => 0x391EBB1A#32
  | 127 => 0x3B12D0DF#32
  | _ => 0#32

noncomputable abbrev lit0t0_8 (i : Nat) : BitVec 32 := match i % 128 with
  | 0 => 0x3B12D0DF#32
  | 1 => 0x3CA0086D#32
  | 2 => 0x3DBAD58B#32
  | 3 => 0x3E6BB748#32
  | 4 => 0x3EA069FE#32
  | 5 => 0x3E6BB748#32
  | 6 => 0x3DBAD58B#32
  | 7 => 0x3CA0086D#32
  | 8 => 0x3B12D0DF#32
  | 9 => 0x391EBB1A#32
  | 10 => 0xB692EE32#32
  | 11 => 0x36FFBDB2#32
  | 12 => 0xB6D29E9B#32
  | 13 => 0x36B0ED61#32
  | 14 => 0xB695FBC4#32
  | 15 => 0x368056F2#32
  | 16 => 0xB65DA20C#32
  | 17 => 0x3641014B#32
  | 18 => 0xB6296767#32
  | 19 => 0x3615C529#32
  | 20 => 0xB6054B76#32
  | 21 => 0x35EEB658#32
  | 22 => 0xB5D6F23A#32
  | 23 => 0x35C28A3B#32
  | 24 => 0xB5B0E6EF#32
  | 25 => 0x35A19018#32
  | 26 => 0xB5942572#32
  | 27 => 0x3588594C#32
  | 28 => 0xB57BD8F1#32
  | 29 => 0x35695670#32
  | 30 => 0xB558D5BB#32
  | 31 => 0x354A0FF9#32
  | 32 => 0xB53CCA00#32
  | 33 => 0x3530D21D#32
  | 34 => 0xB525FE56#32
  | 35 => 0x351C2B08#32
  | 36 => 0xB51339CD#32
  | 37 => 0x350B1097#32
  | 38 => 0xB50398F7#32
  | 39 => 0x34F97F13#32
  | 40 => 0xB4ECE6F7#32
  | 41 => 0x34E14C49#32
  | 42 => 0xB4D69568#32
  | 43 => 0x34CCABDA#32
  | 44 => 0xB4C37BD6#32
  | 45 => 0x34BAF3E5#32
  | 46 => 0xB4B30492#32
  | 47 => 0x34ABA023#32
  | 48 => 0xB4A4BA5F#32
  | 49 => 0x349E485F#32
  | 50 => 0xB4984061#32
  | 51 => 0x349299A5#32
  | 52 => 0xB48D4C4D#32
  | 53 => 0x34885143#32
  | 54 => 0xB483A221#32
  | 55 => 0x347E723F#32
  | 56 => 0xB4762200#32
  | 57 => 0x346E49FF#32
  | 58 => 0xB466E193#32
  | 59 => 0x345FE0DA#32
  | 60 => 0xB45940A1#32
  | 61 => 0x3452FA51#32
  | 62 => 0xB44D07E6#32
  | 63 => 0x344763DA#32
  | 64 => 0xB4420919#32
  | 65 => 0x343CF2FA#32
  | 66 => 0xB4381D32#32
  | 67 => 0x343383CC#32
  | 68 => 0xB42F2322#32
  | 69 => 0x342AF7D2#32
  | 70 => 0xB426FEBD#32
  | 71 => 0x342334FF#32
  | 72 => 0xB41F97EA#32
  | 73 => 0x341C2500#32
  | 74 => 0xB418D9F0#32
  | 75 => 0x3415B495#32
  | 76 => 0xB412B2ED#32
  | 77 => 0x340FD31A#32
  | 78 => 0xB40D1360#32
  | 79 => 0x340A721F#32
  | 80 => 0xB407EDD1#32
  | 81 => 0x3405850C#32
  | 82 => 0xB403367C#32
  | 83 => 0x340100E3#32
  | 84 => 0xB3FDC62E#32
  | 85 => 0x33F9B800#32
  | 86 => 0xB3F5D532#32
  | 87 => 0x33F21BD6#32
  | 88 => 0xB3EE8A1F#32
  | 89 => 0x33EB1E5A#32
  | 90 => 0xB3E7D6EF#32
  | 91 => 0x33E4B25D#32
  | 92 => 0xB3E1AF3D#32
  | 93 => 0x33DECC38#32
  | 94 => 0xB3DC0810#32
  | 95 => 0x33D96196#32
  | 96 => 0xB3D6D7AE#32
  | 97 => 0x33D4694B#32
  | 98 => 0xB3D21572#32
  | 99 => 0x33CFDB34#32
  | 100 => 0xB3CDB9B1#32
  | 101 => 0x33CBB015#32
  | 102 => 0xB3C9BD97#32
  | 103 => 0x33C7E17D#32
  | 104 => 0xB3C61B15#32
  | 105 => 0x33C469B8#32
  | 106 => 0xB3C2CCC7#32
  | 107 => 0x33C143B0#32
  | 108 => 0xB3BFCDE6#32
  | 109 => 0x33BE6AE7#32
  | 110 => 0xB3BD1A36#32
  | 111 => 0x33BBDB61#32
  | 112 => 0xB3BAADFB#32
  | 113 => 0x33B9919E#32
  | 114 => 0xB3B885EC#32
  | 115 => 0x33B78A8A#32
  | 116 => 0xB3B69F28#32
  | 117 => 0x33B5C377#32
  | 118 => 0xB3B4F732#32
  | 119 => 0x33B43A15#32
  | 120 => 0xB3B38BE5#32
  | 121 => 0x33B2EC6A#32
  | 122 => 0xB3B25B72#32
  | 123 => 0x33B1D8CF#32
  | 124 => 0xB3B16459#32
  | 125 => 0x33B0FDEA#32
  | 126 => 0xB3B0A563#32
  | 127 => 0x33B05AA9#32
  | _ => 0#32

noncomputable abbrev lit0t0_9 (i : Nat) : BitVec 32 := match i % 128 with
  | 0 => 0xB3B01DA5#32
  | 1 => 0x33AFEE43#32
  | 2 => 0xB3AFCC75#32
  | 3 => 0x33AFB831#32
  | 4 => 0xB3AFB170#32
  | 5 => 0x33AFB831#32
  | 6 => 0xB3AFCC75#32
  | 7 => 0x33AFEE43#32
  | 8 => 0xB3B01DA5#32
  | 9 => 0x33B05AA9#32
  | 10 => 0xB3B0A563#32
  | 11 => 0x33B0FDEA#32
  | 12 => 0xB3B16459#32
  | 13 => 0x33B1D8CF#32
  | 14 => 0xB3B25B72#32
  | 15 => 0x33B2EC6A#32
  | 16 => 0xB3B38BE5#32
  | 17 => 0x33B43A15#32
  | 18 => 0xB3B4F732#32
  | 19 => 0x33B5C377#32
  | 20 => 0xB3B69F28#32
  | 21 => 0x33B78A8A#32
  | 22 => 0xB3B885EC#32
  | 23 => 0x33B9919E#32
  | 24 => 0xB3BAADFB#32
  | 25 => 0x33BBDB61#32
  | 26 => 0xB3BD1A36#32
  | 27 => 0x33BE6AE7#32
  | 28 => 0xB3BFCDE6#32
  | 29 => 0x33C143B0#32
  | 30 => 0xB3C2CCC7#32
  | 31 => 0x33C469B8#32
  | 32 => 0xB3C61B15#32
  | 33 => 0x33C7E17D#32
  | 34 => 0xB3C9BD97#32
  | 35 => 0x33CBB015#32
  | 36 => 0xB3CDB9B1#32
  | 37 => 0x33CFDB34#32
  | 38 => 0xB3D21572#32
  | 39 => 0x33D4694B#32
  | 40 => 0xB3D6D7AE#32
  | 41 => 0x33D96196#32
  | 42 => 0xB3DC0810#32
  | 43 => 0x33DECC38#32
  | 44 => 0xB3E1AF3D#32
  | 45 => 0x33E4B25D#32
  | 46 => 0xB3E7D6EF#32
  | 47 => 0x33EB1E5A#32
  | 48 => 0xB3EE8A1F#32
  | 49 => 0x33F21BD6#32
  | 50 => 0xB3F5D532#32
  | 51 => 0x33F9B800#32
  | 52 => 0xB3FDC62E#32
  | 53 => 0x340100E3#32
  | 54 => 0xB403367C#32
  | 55 => 0x3405850C#32
  | 56 => 0xB407EDD1#32
  | 57 => 0x340A721F#32
  | 58 => 0xB40D1360#32
  | 59 => 0x340FD31A#32
  | 60 => 0xB412B2ED#32
  | 61 => 0x3415B495#32
  | 62 => 0xB418D9F0#32
  | 63 => 0x341C2500#32
  | 64 => 0xB41F97EA#32
  | 65 => 0x342334FF#32
  | 66 => 0xB426FEBD#32
  | 67 => 0x342AF7D2#32
  | 68 => 0xB42F2322#32
  | 69 => 0x343383CC#32
  | 70 => 0xB4381D32#32
  | 71 => 0x343CF2FA#32
  | 72 => 0xB4420919#32
  | 73 => 0x344763DA#32
  | 74 => 0xB44D07E6#32
  | 75 => 0x3452FA51#32
  | 76 => 0xB45940A1#32
  | 77 => 0x345FE0DA#32
  | 78 => 0xB466E193#32
  | 79 => 0x346E49FF#32
  | 80 => 0xB4762200#32
  | 81 => 0x347E723F#32
  | 82 => 0xB483A221#32
  | 83 => 0x34885142#32
  | 84 => 0xB48D4C4D#32
  | 85 => 0x349299A5#32
  | 86 => 0xB4984061#32
  | 87 => 0x349E485F#32
  | 88 => 0xB4A4BA5F#32
  | 89 => 0x34ABA023#32
  | 90 => 0xB4B30492#32
  | 91 => 0x34BAF3E5#32
  | 92 => 0xB4C37BD6#32
  | 93 => 0x34CCABDA#32
  | 94 => 0xB4D69568#32
  | 95 => 0x34E14C49#32
  | 96 => 0xB4ECE6F7#32
  | 97 => 0x34F97F13#32
  | 98 => 0xB50398F7#32
  | 99 => 0x350B1097#32
  | 100 => 0xB51339CD#32
  | 101 => 0x351C2B08#32
  | 102 => 0xB525FE56#32
  | 103 => 0x3530D21D#32
  | 104 => 0xB53CCA00#32
  | 105 => 0x354A0FF9#32
  | 106 => 0xB558D5BB#32
  | 107 => 0x35695670#32
  | 108 => 0xB57BD8F1#32
  | 109 => 0x3588594C#32
  | 110 => 0xB5942572#32
  | 111 => 0x35A19018#32
  | 112 => 0xB5B0E6EF#32
  | 113 => 0x35C28A3B#32
  | 114 => 0xB5D6F23A#32
  | 115 => 0x35EEB658#32
  | 116 => 0xB6054B76#32
  | 117 => 0x3615C529#32
  | 118 => 0xB6296767#32
  | 119 => 0x3641014B#32
  | 120 => 0xB65DA20C#32
  | 121 => 0x368056F2#32
  | 122 => 0xB695FBC4#32
  | 123 => 0x36B0ED61#32
  | 124 => 0xB6D29E9B#32
  | 125 => 0x36FFBDB2#32
  | 126 => 0xB692EE32#32
  | 127 => 0x391EBB1A#32
  | _ => 0#32

noncomputable abbrev lit0t0_10 (i : Nat) : BitVec 32 := match i % 128 with
  | 0 => 0x391EBB1A#32
  | 1 => 0x3B12D0DF#32
  | 2 => 0x3CA0086D#32
  | 3 => 0x3DBAD58B#32
  | 4 => 0x3E6BB748#32
  | 5 => 0x3EA069FE#32
  | 6 => 0x3E6BB748#32
  | 7 => 0x3DBAD58B#32
  | 8 => 0x3CA0086D#32
  | 9 => 0x3B12D0DF#32
  | 10 => 0x391EBB1A#32
  | 11 => 0xB692EE32#32
  | 12 => 0x36FFBDB2#32
  | 13 => 0xB6D29E9B#32
  | 14 => 0x36B0ED61#32
  | 15 => 0xB695FBC4#32
  | 16 => 0x368056F2#32
  | 17 => 0xB65DA20C#32
  | 18 => 0x3641014B#32
  | 19 => 0xB6296767#32
  | 20 => 0x3615C529#32
  | 21 => 0xB6054B76#32
  | 22 => 0x35EEB658#32
  | 23 => 0xB5D6F23A#32
  | 24 => 0x35C28A3B#32
  | 25 => 0xB5B0E6EF#32
  | 26 => 0x35A19018#32
  | 27 => 0xB5942572#32
  | 28 => 0x3588594C#32
  | 29 => 0xB57BD8F1#32
  | 30 => 0x35695670#32
  | 31 => 0xB558D5BB#32
  | 32 => 0x354A0FF9#32
  | 33 => 0xB53CCA00#32
  | 34 => 0x3530D21D#32
  | 35 => 0xB525FE56#32
  | 36 => 0x351C2B08#32
  | 37 => 0xB51339CD#32
  | 38 => 0x350B1097#32
  | 39 => 0xB50398F7#32
  | 40 => 0x34F97F13#32
  | 41 => 0xB4ECE6F7#32
  | 42 => 0x34E14C49#32
  | 43 => 0xB4D69568#32
  | 44 => 0x34CCABDA#32
  | 45 => 0xB4C37BD6#32
  | 46 => 0x34BAF3E5#32
  | 47 => 0xB4B30492#32
  | 48 => 0x34ABA023#32
  | 49 => 0xB4A4BA5F#32
  | 50 => 0x349E485F#32
  | 51 => 0xB4984061#32
  | 52 => 0x349299A5#32
  | 53 => 0xB48D4C4D#32
  | 54 => 0x34885143#32
  | 55 => 0xB483A221#32
  | 56 => 0x347E723F#32
  | 57 => 0xB4762200#32
  | 58 => 0x346E49FF#32
  | 59 => 0xB466E193#32
  | 60 => 0x345FE0DA#32
  | 61 => 0xB45940A1#32
  | 62 => 0x3452FA51#32
  | 63 => 0xB44D07E6#32
  | 64 => 0x344763DA#32
  | 65 => 0xB4420919#32
  | 66 => 0x343CF2FA#32
  | 67 => 0xB4381D32#32
  | 68 => 0x343383CC#32
  | 69 => 0xB42F2322#32
  | 70 => 0x342AF7D2#32
  | 71 => 0xB426FEBD#32
  | 72 => 0x342334FF#32
  | 73 => 0xB41F97EA#32
  | 74 => 0x341C2500#32
  | 75 => 0xB418D9F0#32
  | 76 => 0x3415B495#32
  | 77 => 0xB412B2ED#32
  | 78 => 0x340FD31A#32
  | 79 => 0xB40D1360#32
  | 80 => 0x340A721F#32
  | 81 => 0xB407EDD1#32
  | 82 => 0x3405850C#32
  | 83 => 0xB403367C#32
  | 84 => 0x340100E3#32
  | 85 => 0xB3FDC62E#32
  | 86 => 0x33F9B800#32
  | 87 => 0xB3F5D532#32
  | 88 => 0x33F21BD6#32
  | 89 => 0xB3EE8A1F#32
  | 90 => 0x33EB1E5A#32
  | 91 => 0xB3E7D6EF#32
  | 92 => 0x33E4B25D#32
  | 93 => 0xB3E1AF3D#32
  | 94 => 0x33DECC38#32
  | 95 => 0xB3DC0810#32
  | 96 => 0x33D96196#32
  | 97 => 0xB3D6D7AE#32
  | 98 => 0x33D4694B#32
  | 99 => 0xB3D21572#32
  | 100 => 0x33CFDB34#32
  | 101 => 0xB3CDB9B1#32
  | 102 => 0x33CBB015#32
  | 103 => 0xB3C9BD97#32
  | 104 => 0x33C7E17D#32
  | 105 => 0xB3C61B15#32
  | 106 => 0x33C469B8#32
  | 107 => 0xB3C2CCC7#32
  | 108 => 0x33C143B0#32
  | 109 => 0xB3BFCDE6#32
  | 110 => 0x33BE6AE7#32
  | 111 => 0xB3BD1A36#32
  | 112 => 0x33BBDB61#32
  | 113 => 0xB3BAADFB#32
  | 114 => 0x33B9919E#32
  | 115 => 0xB3B885EC#32
  | 116 => 0x33B78A8A#32
  | 117 => 0xB3B69F28#32
  | 118 => 0x33B5C377#32
  | 119 => 0xB3B4F732#32
  | 120 => 0x33B43A15#32
  | 121 => 0xB3B38BE5#32
  | 122 => 0x33B2EC6A#32
  | 123 => 0xB3B25B72#32
  | 124 => 0x33B1D8CF#32
  | 125 => 0xB3B16459#32
  | 126 => 0x33B0FDEA#32
  | 127 => 0xB3B0A563#32
  | _ => 0#32

noncomputable abbrev lit0t0_11 (i : Nat) : BitVec 32 := match i % 128 with
  | 0 => 0x33B05AA9#32
  | 1 => 0xB3B01DA5#32
  | 2 => 0x33AFEE43#32
  | 3 => 0xB3AFCC75#32
  | 4 => 0x33AFB831#32
  | 5 => 0xB3AFB170#32
  | 6 => 0x33AFB831#32
  | 7 => 0xB3AFCC75#32
  | 8 => 0x33AFEE43#32
  | 9 => 0xB3B01DA5#32
  | 10 => 0x33B05AA9#32
  | 11 => 0xB3B0A563#32
  | 12 => 0x33B0FDEA#32
  | 13 => 0xB3B16459#32
  | 14 => 0x33B1D8CF#32
  | 15 => 0xB3B25B72#32
  | 16 => 0x33B2EC6A#32
  | 17 => 0xB3B38BE5#32
  | 18 => 0x33B43A15#32
  | 19 => 0xB3B4F732#32
  | 20 => 0x33B5C377#32
  | 21 => 0xB3B69F28#32
  | 22 => 0x33B78A8A#32
  | 23 => 0xB3B885EC#32
  | 24 => 0x33B9919E#32
  | 25 => 0xB3BAADFB#32
  | 26 => 0x33BBDB61#32
  | 27 => 0xB3BD1A36#32
  | 28 => 0x33BE6AE7#32
  | 29 => 0xB3BFCDE6#32
  | 30 => 0x33C143B0#32
  | 31 => 0xB3C2CCC7#32
  | 32 => 0x33C469B8#32
  | 33 => 0xB3C61B15#32
  | 34 => 0x33C7E17D#32
  | 35 => 0xB3C9BD97#32
  | 36 => 0x33CBB015#32
  | 37 => 0xB3CDB9B1#32
  | 38 => 0x33CFDB34#32
  | 39 => 0xB3D21572#32
  | 40 => 0x33D4694B#32
  | 41 => 0xB3D6D7AE#32
  | 42 => 0x33D96196#32
  | 43 => 0xB3DC0810#32
  | 44 => 0x33DECC38#32
  | 45 => 0xB3E1AF3D#32
  | 46 => 0x33E4B25D#32
  | 47 => 0xB3E7D6EF#32
  | 48 => 0x33EB1E5A#32
  | 49 => 0xB3EE8A1F#32
  | 50 => 0x33F21BD6#32
  | 51 => 0xB3F5D532#32
  | 52 => 0x33F9B800#32
  | 53 => 0xB3FDC62E#32
  | 54 => 0x340100E3#32
  | 55 => 0xB403367C#32
  | 56 => 0x3405850C#32
  | 57 => 0xB407EDD1#32
  | 58 => 0x340A721F#32
  | 59 => 0xB40D1360#32
  | 60 => 0x340FD31A#32
  | 61 => 0xB412B2ED#32
  | 62 => 0x3415B495#32
  | 63 => 0xB418D9F0#32
  | 64 => 0x341C2500#32
  | 65 => 0xB41F97EA#32
  | 66 => 0x342334FF#32
  | 67 => 0xB426FEBD#32
  | 68 => 0x342AF7D2#32
  | 69 => 0xB42F2322#32
  | 70 => 0x343383CC#32
  | 71 => 0xB4381D32#32
  | 72 => 0x343CF2FA#32
  | 73 => 0xB4420919#32
  | 74 => 0x344763DA#32
  | 75 => 0xB44D07E6#32
  | 76 => 0x3452FA51#32
  | 77 => 0xB45940A1#32
  | 78 => 0x345FE0DA#32
  | 79 => 0xB466E193#32
  | 80 => 0x346E49FF#32
  | 81 => 0xB4762200#32
  | 82 => 0x347E723F#32
  | 83 => 0xB483A221#32
  | 84 => 0x34885143#32
  | 85 => 0xB48D4C4D#32
  | 86 => 0x349299A5#32
  | 87 => 0xB4984061#32
  | 88 => 0x349E485F#32
  | 89 => 0xB4A4BA5F#32
  | 90 => 0x34ABA023#32
  | 91 => 0xB4B30492#32
  | 92 => 0x34BAF3E5#32
  | 93 => 0xB4C37BD6#32
  | 94 => 0x34CCABDA#32
  | 95 => 0xB4D69568#32
  | 96 => 0x34E14C49#32
  | 97 => 0xB4ECE6F7#32
  | 98 => 0x34F97F13#32
  | 99 => 0xB50398F7#32
  | 100 => 0x350B1097#32
  | 101 => 0xB51339CD#32
  | 102 => 0x351C2B08#32
  | 103 => 0xB525FE56#32
  | 104 => 0x3530D21D#32
  | 105 => 0xB53CCA00#32
  | 106 => 0x354A0FF9#32
  | 107 => 0xB558D5BB#32
  | 108 => 0x35695670#32
  | 109 => 0xB57BD8F1#32
  | 110 => 0x3588594C#32
  | 111 => 0xB5942572#32
  | 112 => 0x35A19018#32
  | 113 => 0xB5B0E6EF#32
  | 114 => 0x35C28A3B#32
  | 115 => 0xB5D6F23A#32
  | 116 => 0x35EEB658#32
  | 117 => 0xB6054B76#32
  | 118 => 0x3615C529#32
  | 119 => 0xB6296767#32
  | 120 => 0x3641014B#32
  | 121 => 0xB65DA20C#32
  | 122 => 0x368056F2#32
  | 123 => 0xB695FBC4#32
  | 124 => 0x36B0ED61#32
  | 125 => 0xB6D29E9B#32
  | 126 => 0x36FFBDB2#32
  | 127 => 0xB692EE32#32
  | _ => 0#32

noncomputable abbrev lit0t0_12 (i : Nat) : BitVec 32 := match i % 128 with
  | 0 => 0xB692EE32#32
  | 1 => 0x391EBB1A#32
  | 2 => 0x3B12D0DF#32
  | 3 => 0x3CA0086D#32
  | 4 => 0x3DBAD58B#32
  | 5 => 0x3E6BB748#32
  | 6 => 0x3EA069FE#32
  | 7 => 0x3E6BB748#32
  | 8 => 0x3DBAD58B#32
  | 9 => 0x3CA0086D#32
  | 10 => 0x3B12D0DF#32
  | 11 => 0x391EBB1A#32
  | 12 => 0xB692EE32#32
  | 13 => 0x36FFBDB2#32
  | 14 => 0xB6D29E9B#32
  | 15 => 0x36B0ED61#32
  | 16 => 0xB695FBC4#32
  | 17 => 0x368056F2#32
  | 18 => 0xB65DA20C#32
  | 19 => 0x3641014B#32
  | 20 => 0xB6296767#32
  | 21 => 0x3615C529#32
  | 22 => 0xB6054B76#32
  | 23 => 0x35EEB658#32
  | 24 => 0xB5D6F23A#32
  | 25 => 0x35C28A3B#32
  | 26 => 0xB5B0E6EF#32
  | 27 => 0x35A19018#32
  | 28 => 0xB5942572#32
  | 29 => 0x3588594C#32
  | 30 => 0xB57BD8F1#32
  | 31 => 0x35695670#32
  | 32 => 0xB558D5BB#32
  | 33 => 0x354A0FF9#32
  | 34 => 0xB53CCA00#32
  | 35 => 0x3530D21D#32
  | 36 => 0xB525FE56#32
  | 37 => 0x351C2B08#32
  | 38 => 0xB51339CD#32
  | 39 => 0x350B1097#32
  | 40 => 0xB50398F7#32
  | 41 => 0x34F97F13#32
  | 42 => 0xB4ECE6F7#32
  | 43 => 0x34E14C49#32
  | 44 => 0xB4D69568#32
  | 45 => 0x34CCABDA#32
  | 46 => 0xB4C37BD6#32
  | 47 => 0x34BAF3E5#32
  | 48 => 0xB4B30492#32
  | 49 => 0x34ABA023#32
  | 50 => 0xB4A4BA5F#32
  | 51 => 0x349E485F#32
  | 52 => 0xB4984061#32
  | 53 => 0x349299A5#32
  | 54 => 0xB48D4C4D#32
  | 55 => 0x34885143#32
  | 56 => 0xB483A221#32
  | 57 => 0x347E723F#32
  | 58 => 0xB4762200#32
  | 59 => 0x346E49FF#32
  | 60 => 0xB466E193#32
  | 61 => 0x345FE0DA#32
  | 62 => 0xB45940A1#32
  | 63 => 0x3452FA51#32
  | 64 => 0xB44D07E6#32
  | 65 => 0x344763DA#32
  | 66 => 0xB4420919#32
  | 67 => 0x343CF2FA#32
  | 68 => 0xB4381D32#32
  | 69 => 0x343383CC#32
  | 70 => 0xB42F2322#32
  | 71 => 0x342AF7D2#32
  | 72 => 0xB426FEBD#32
  | 73 => 0x342334FF#32
  | 74 => 0xB41F97EA#32
  | 75 => 0x341C2500#32
  | 76 => 0xB418D9F0#32
  | 77 => 0x3415B495#32
  | 78 => 0xB412B2ED#32
  | 79 => 0x340FD31A#32
  | 80 => 0xB40D1360#32
  | 81 => 0x340A721F#32
  | 82 => 0xB407EDD1#32
  | 83 => 0x3405850C#32
  | 84 => 0xB403367C#32
  | 85 => 0x340100E3#32
  | 86 => 0xB3FDC62E#32
  | 87 => 0x33F9B800#32
  | 88 => 0xB3F5D532#32
  | 89 => 0x33F21BD6#32
  | 90 => 0xB3EE8A1F#32
  | 91 => 0x33EB1E5A#32
  | 92 => 0xB3E7D6EF#32
  | 93 => 0x33E4B25D#32
  | 94 => 0xB3E1AF3D#32
  | 95 => 0x33DECC38#32
  | 96 => 0xB3DC0810#32
  | 97 => 0x33D96196#32
  | 98 => 0xB3D6D7AE#32
  | 99 => 0x33D4694B#32
  | 100 => 0xB3D21572#32
  | 101 => 0x33CFDB34#32
  | 102 => 0xB3CDB9B1#32
  | 103 => 0x33CBB015#32
  | 104 => 0xB3C9BD97#32
  | 105 => 0x33C7E17D#32
  | 106 => 0xB3C61B15#32
  | 107 => 0x33C469B8#32
  | 108 => 0xB3C2CCC7#32
  | 109 => 0x33C143B0#32
  | 110 => 0xB3BFCDE6#32
  | 111 => 0x33BE6AE7#32
  | 112 => 0xB3BD1A36#32
  | 113 => 0x33BBDB61#32
  | 114 => 0xB3BAADFB#32
  | 115 => 0x33B9919E#32
  | 116 => 0xB3B885EC#32
  | 117 => 0x33B78A8A#32
  | 118 => 0xB3B69F28#32
  | 119 => 0x33B5C377#32
  | 120 => 0xB3B4F732#32
  | 121 => 0x33B43A15#32
  | 122 => 0xB3B38BE5#32
  | 123 => 0x33B2EC6A#32
  | 124 => 0xB3B25B72#32
  | 125 => 0x33B1D8CF#32
  | 126 => 0xB3B16459#32
  | 127 => 0x33B0FDEA#32
  | _ => 0#32

noncomputable abbrev lit0t0_13 (i : Nat) : BitVec 32 := match i % 128 with
  | 0 => 0xB3B0A563#32
  | 1 => 0x33B05AA9#32
  | 2 => 0xB3B01DA5#32
  | 3 => 0x33AFEE43#32
  | 4 => 0xB3AFCC75#32
  | 5 => 0x33AFB831#32
  | 6 => 0xB3AFB170#32
  | 7 => 0x33AFB831#32
  | 8 => 0xB3AFCC75#32
  | 9 => 0x33AFEE43#32
  | 10 => 0xB3B01DA5#32
  | 11 => 0x33B05AA9#32
  | 12 => 0xB3B0A563#32
  | 13 => 0x33B0FDEA#32
  | 14 => 0xB3B16459#32
  | 15 => 0x33B1D8CF#32
  | 16 => 0xB3B25B72#32
  | 17 => 0x33B2EC6A#32
  | 18 => 0xB3B38BE5#32
  | 19 => 0x33B43A15#32
  | 20 => 0xB3B4F732#32
  | 21 => 0x33B5C377#32
  | 22 => 0xB3B69F28#32
  | 23 => 0x33B78A8A#32
  | 24 => 0xB3B885EC#32
  | 25 => 0x33B9919E#32
  | 26 => 0xB3BAADFB#32
  | 27 => 0x33BBDB61#32
  | 28 => 0xB3BD1A36#32
  | 29 => 0x33BE6AE7#32
  | 30 => 0xB3BFCDE6#32
  | 31 => 0x33C143B0#32
  | 32 => 0xB3C2CCC7#32
  | 33 => 0x33C469B8#32
  | 34 => 0xB3C61B15#32
  | 35 => 0x33C7E17D#32
  | 36 => 0xB3C9BD97#32
  | 37 => 0x33CBB015#32
  | 38 => 0xB3CDB9B1#32
  | 39 => 0x33CFDB34#32
  | 40 => 0xB3D21572#32
  | 41 => 0x33D4694B#32
  | 42 => 0xB3D6D7AE#32
  | 43 => 0x33D96196#32
  | 44 => 0xB3DC0810#32
  | 45 => 0x33DECC38#32
  | 46 => 0xB3E1AF3D#32
  | 47 => 0x33E4B25D#32
  | 48 => 0xB3E7D6EF#32
  | 49 => 0x33EB1E5A#32
  | 50 => 0xB3EE8A1F#32
  | 51 => 0x33F21BD6#32
  | 52 => 0xB3F5D532#32
  | 53 => 0x33F9B800#32
  | 54 => 0xB3FDC62E#32
  | 55 => 0x340100E3#32
  | 56 => 0xB403367C#32
  | 57 => 0x3405850C#32
  | 58 => 0xB407EDD1#32
  | 59 => 0x340A721F#32
  | 60 => 0xB40D1360#32
  | 61 => 0x340FD31A#32
  | 62 => 0xB412B2ED#32
  | 63 => 0x3415B495#32
  | 64 => 0xB418D9F0#32
  | 65 => 0x341C2500#32
  | 66 => 0xB41F97EA#32
  | 67 => 0x342334FF#32
  | 68 => 0xB426FEBD#32
  | 69 => 0x342AF7D2#32
  | 70 => 0xB42F2322#32
  | 71 => 0x343383CC#32
  | 72 => 0xB4381D32#32
  | 73 => 0x343CF2FA#32
  | 74 => 0xB4420919#32
  | 75 => 0x344763DA#32
  | 76 => 0xB44D07E6#32
  | 77 => 0x3452FA51#32
  | 78 => 0xB45940A1#32
  | 79 => 0x345FE0DA#32
  | 80 => 0xB466E193#32
  | 81 => 0x346E49FF#32
  | 82 => 0xB4762200#32
  | 83 => 0x347E723F#32
  | 84 => 0xB483A221#32
  | 85 => 0x34885143#32
  | 86 => 0xB48D4C4D#32
  | 87 => 0x349299A5#32
  | 88 => 0xB4984061#32
  | 89 => 0x349E485F#32
  | 90 => 0xB4A4BA5F#32
  | 91 => 0x34ABA023#32
  | 92 => 0xB4B30492#32
  | 93 => 0x34BAF3E5#32
  | 94 => 0xB4C37BD6#32
  | 95 => 0x34CCABDA#32
  | 96 => 0xB4D69568#32
  | 97 => 0x34E14C49#32
  | 98 => 0xB4ECE6F7#32
  | 99 => 0x34F97F13#32
  | 100 => 0xB50398F7#32
  | 101 => 0x350B1097#32
  | 102 => 0xB51339CD#32
  | 103 => 0x351C2B08#32
  | 104 => 0xB525FE56#32
  | 105 => 0x3530D21D#32
  | 106 => 0xB53CCA00#32
  | 107 => 0x354A0FF9#32
  | 108 => 0xB558D5BB#32
  | 109 => 0x35695670#32
  | 110 => 0xB57BD8F1#32
  | 111 => 0x3588594C#32
  | 112 => 0xB5942572#32
  | 113 => 0x35A19018#32
  | 114 => 0xB5B0E6EF#32
  | 115 => 0x35C28A3B#32
  | 116 => 0xB5D6F23A#32
  | 117 => 0x35EEB658#32
  | 118 => 0xB6054B76#32
  | 119 => 0x3615C529#32
  | 120 => 0xB6296767#32
  | 121 => 0x3641014B#32
  | 122 => 0xB65DA20C#32
  | 123 => 0x368056F2#32
  | 124 => 0xB695FBC4#32
  | 125 => 0x36B0ED61#32
  | 126 => 0xB6D29E9B#32
  | 127 => 0x36FFBDB2#32
  | _ => 0#32

noncomputable abbrev lit0t0_14 (i : Nat) : BitVec 32 := match i % 128 with
  | 0 => 0x36FFBDB2#32
  | 1 => 0xB692EE32#32
  | 2 => 0x391EBB1A#32
  | 3 => 0x3B12D0DF#32
  | 4 => 0x3CA0086D#32
  | 5 => 0x3DBAD58B#32
  | 6 => 0x3E6BB748#32
  | 7 => 0x3EA069FE#32
  | 8 => 0x3E6BB748#32
  | 9 => 0x3DBAD58B#32
  | 10 => 0x3CA0086D#32
  | 11 => 0x3B12D0DF#32
  | 12 => 0x391EBB1A#32
  | 13 => 0xB692EE32#32
  | 14 => 0x36FFBDB2#32
  | 15 => 0xB6D29E9B#32
  | 16 => 0x36B0ED61#32
  | 17 => 0xB695FBC4#32
  | 18 => 0x368056F2#32
  | 19 => 0xB65DA20C#32
  | 20 => 0x3641014B#32
  | 21 => 0xB6296767#32
  | 22 => 0x3615C529#32
  | 23 => 0xB6054B76#32
  | 24 => 0x35EEB658#32
  | 25 => 0xB5D6F23A#32
  | 26 => 0x35C28A3B#32
  | 27 => 0xB5B0E6EF#32
  | 28 => 0x35A19018#32
  | 29 => 0xB5942572#32
  | 30 => 0x3588594C#32
  | 31 => 0xB57BD8F1#32
  | 32 => 0x35695670#32
  | 33 => 0xB558D5BB#32
  | 34 => 0x354A0FF9#32
  | 35 => 0xB53CCA00#32
  | 36 => 0x3530D21D#32
  | 37 => 0xB525FE56#32
  | 38 => 0x351C2B08#32
  | 39 => 0xB51339CD#32
  | 40 => 0x350B1097#32
  | 41 => 0xB50398F7#32
  | 42 => 0x34F97F13#32
  | 43 => 0xB4ECE6F7#32
  | 44 => 0x34E14C49#32
  | 45 => 0xB4D69568#32
  | 46 => 0x34CCABDA#32
  | 47 => 0xB4C37BD6#32
  | 48 => 0x34BAF3E5#32
  | 49 => 0xB4B30492#32
  | 50 => 0x34ABA023#32
  | 51 => 0xB4A4BA5F#32
  | 52 => 0x349E485F#32
  | 53 => 0xB4984061#32
  | 54 => 0x349299A5#32
  | 55 => 0xB48D4C4D#32
  | 56 => 0x34885143#32
  | 57 => 0xB483A221#32
  | 58 => 0x347E723F#32
  | 59 => 0xB4762200#32
  | 60 => 0x346E49FF#32
  | 61 => 0xB466E193#32
  | 62 => 0x345FE0DA#32
  | 63 => 0xB45940A1#32
  | 64 => 0x3452FA51#32
  | 65 => 0xB44D07E6#32
  | 66 => 0x344763DA#32
  | 67 => 0xB4420919#32
  | 68 => 0x343CF2FA#32
  | 69 => 0xB4381D32#32
  | 70 => 0x343383CC#32
  | 71 => 0xB42F2322#32
  | 72 => 0x342AF7D2#32
  | 73 => 0xB426FEBD#32
  | 74 => 0x342334FF#32
  | 75 => 0xB41F97EA#32
  | 76 => 0x341C2500#32
  | 77 => 0xB418D9F0#32
  | 78 => 0x3415B495#32
  | 79 => 0xB412B2ED#32
  | 80 => 0x340FD31A#32
  | 81 => 0xB40D1360#32
  | 82 => 0x340A721F#32
  | 83 => 0xB407EDD1#32
  | 84 => 0x3405850C#32
  | 85 => 0xB403367C#32
  | 86 => 0x340100E3#32
  | 87 => 0xB3FDC62E#32
  | 88 => 0x33F9B800#32
  | 89 => 0xB3F5D532#32
  | 90 => 0x33F21BD6#32
  | 91 => 0xB3EE8A1F#32
  | 92 => 0x33EB1E5A#32
  | 93 => 0xB3E7D6EF#32
  | 94 => 0x33E4B25D#32
  | 95 => 0xB3E1AF3D#32
  | 96 => 0x33DECC38#32
  | 97 => 0xB3DC0810#32
  | 98 => 0x33D96196#32
  | 99 => 0xB3D6D7AE#32
  | 100 => 0x33D4694B#32
  | 101 => 0xB3D21572#32
  | 102 => 0x33CFDB34#32
  | 103 => 0xB3CDB9B1#32
  | 104 => 0x33CBB015#32
  | 105 => 0xB3C9BD97#32
  | 106 => 0x33C7E17D#32
  | 107 => 0xB3C61B15#32
  | 108 => 0x33C469B8#32
  | 109 => 0xB3C2CCC7#32
  | 110 => 0x33C143B0#32
  | 111 => 0xB3BFCDE6#32
  | 112 => 0x33BE6AE7#32
  | 113 => 0xB3BD1A36#32
  | 114 => 0x33BBDB61#32
  | 115 => 0xB3BAADFB#32
  | 116 => 0x33B9919E#32
  | 117 => 0xB3B885EC#32
  | 118 => 0x33B78A8A#32
  | 119 => 0xB3B69F28#32
  | 120 => 0x33B5C377#32
  | 121 => 0xB3B4F732#32
  | 122 => 0x33B43A15#32
  | 123 => 0xB3B38BE5#32
  | 124 => 0x33B2EC6A#32
  | 125 => 0xB3B25B72#32
  | 126 => 0x33B1D8CF#32
  | 127 => 0xB3B16459#32
  | _ => 0#32

noncomputable abbrev lit0t0_15 (i : Nat) : BitVec 32 := match i % 128 with
  | 0 => 0x33B0FDEA#32
  | 1 => 0xB3B0A563#32
  | 2 => 0x33B05AA9#32
  | 3 => 0xB3B01DA5#32
  | 4 => 0x33AFEE43#32
  | 5 => 0xB3AFCC75#32
  | 6 => 0x33AFB831#32
  | 7 => 0xB3AFB170#32
  | 8 => 0x33AFB831#32
  | 9 => 0xB3AFCC75#32
  | 10 => 0x33AFEE43#32
  | 11 => 0xB3B01DA5#32
  | 12 => 0x33B05AA9#32
  | 13 => 0xB3B0A563#32
  | 14 => 0x33B0FDEA#32
  | 15 => 0xB3B16459#32
  | 16 => 0x33B1D8CF#32
  | 17 => 0xB3B25B72#32
  | 18 => 0x33B2EC6A#32
  | 19 => 0xB3B38BE5#32
  | 20 => 0x33B43A15#32
  | 21 => 0xB3B4F732#32
  | 22 => 0x33B5C377#32
  | 23 => 0xB3B69F28#32
  | 24 => 0x33B78A8A#32
  | 25 => 0xB3B885EC#32
  | 26 => 0x33B9919E#32
  | 27 => 0xB3BAADFB#32
  | 28 => 0x33BBDB61#32
  | 29 => 0xB3BD1A36#32
  | 30 => 0x33BE6AE7#32
  | 31 => 0xB3BFCDE6#32
  | 32 => 0x33C143B0#32
  | 33 => 0xB3C2CCC7#32
  | 34 => 0x33C469B8#32
  | 35 => 0xB3C61B15#32
  | 36 => 0x33C7E17D#32
  | 37 => 0xB3C9BD97#32
  | 38 => 0x33CBB015#32
  | 39 => 0xB3CDB9B1#32
  | 40 => 0x33CFDB34#32
  | 41 => 0xB3D21572#32
  | 42 => 0x33D4694B#32
  | 43 => 0xB3D6D7AE#32
  | 44 => 0x33D96196#32
  | 45 => 0xB3DC0810#32
  | 46 => 0x33DECC38#32
  | 47 => 0xB3E1AF3D#32
  | 48 => 0x33E4B25D#32
  | 49 => 0xB3E7D6EF#32
  | 50 => 0x33EB1E5A#32
  | 51 => 0xB3EE8A1F#32
  | 52 => 0x33F21BD6#32
  | 53 => 0xB3F5D532#32
  | 54 => 0x33F9B800#32
  | 55 => 0xB3FDC62E#32
  | 56 => 0x340100E3#32
  | 57 => 0xB403367C#32
  | 58 => 0x3405850C#32
  | 59 => 0xB407EDD1#32
  | 60 => 0x340A721F#32
  | 61 => 0xB40D1360#32
  | 62 => 0x340FD31A#32
  | 63 => 0xB412B2ED#32
  | 64 => 0x3415B495#32
  | 65 => 0xB418D9F0#32
  | 66 => 0x341C2500#32
  | 67 => 0xB41F97EA#32
  | 68 => 0x342334FF#32
  | 69 => 0xB426FEBD#32
  | 70 => 0x342AF7D2#32
  | 71 => 0xB42F2322#32
  | 72 => 0x343383CC#32
  | 73 => 0xB4381D32#32
  | 74 => 0x343CF2FA#32
  | 75 => 0xB4420919#32
  | 76 => 0x344763DA#32
  | 77 => 0xB44D07E6#32
  | 78 => 0x3452FA51#32
  | 79 => 0xB45940A1#32
  | 80 => 0x345FE0DA#32
  | 81 => 0xB466E193#32
  | 82 => 0x346E49FF#32
  | 83 => 0xB4762200#32
  | 84 => 0x347E723F#32
  | 85 => 0xB483A221#32
  | 86 => 0x34885143#32
  | 87 => 0xB48D4C4D#32
  | 88 => 0x349299A5#32
  | 89 => 0xB4984061#32
  | 90 => 0x349E485F#32
  | 91 => 0xB4A4BA5F#32
  | 92 => 0x34ABA023#32
  | 93 => 0xB4B30492#32
  | 94 => 0x34BAF3E5#32
  | 95 => 0xB4C37BD6#32
  | 96 => 0x34CCABDA#32
  | 97 => 0xB4D69568#32
  | 98 => 0x34E14C49#32
  | 99 => 0xB4ECE6F7#32
  | 100 => 0x34F97F13#32
  | 101 => 0xB50398F7#32
  | 102 => 0x350B1097#32
  | 103 => 0xB51339CD#32
  | 104 => 0x351C2B08#32
  | 105 => 0xB525FE56#32
  | 106 => 0x3530D21D#32
  | 107 => 0xB53CCA00#32
  | 108 => 0x354A0FF9#32
  | 109 => 0xB558D5BB#32
  | 110 => 0x35695670#32
  | 111 => 0xB57BD8F1#32
  | 112 => 0x3588594C#32
  | 113 => 0xB5942572#32
  | 114 => 0x35A19018#32
  | 115 => 0xB5B0E6EF#32
  | 116 => 0x35C28A3B#32
  | 117 => 0xB5D6F23A#32
  | 118 => 0x35EEB658#32
  | 119 => 0xB6054B76#32
  | 120 => 0x3615C529#32
  | 121 => 0xB6296767#32
  | 122 => 0x3641014B#32
  | 123 => 0xB65DA20C#32
  | 124 => 0x368056F2#32
  | 125 => 0xB695FBC4#32
  | 126 => 0x36B0ED61#32
  | 127 => 0xB6D29E9B#32
  | _ => 0#32

noncomputable abbrev lit0t0_16 (i : Nat) : BitVec 32 := match i % 128 with
  | 0 => 0xB6D29E9B#32
  | 1 => 0x36FFBDB2#32
  | 2 => 0xB692EE32#32
  | 3 => 0x391EBB1A#32
  | 4 => 0x3B12D0DF#32
  | 5 => 0x3CA0086D#32
  | 6 => 0x3DBAD58B#32
  | 7 => 0x3E6BB748#32
  | 8 => 0x3EA069FE#32
  | 9 => 0x3E6BB748#32
  | 10 => 0x3DBAD58B#32
  | 11 => 0x3CA0086D#32
  | 12 => 0x3B12D0DF#32
  | 13 => 0x391EBB1A#32
  | 14 => 0xB692EE32#32
  | 15 => 0x36FFBDB2#32
  | 16 => 0xB6D29E9B#32
  | 17 => 0x36B0ED61#32
  | 18 => 0xB695FBC4#32
  | 19 => 0x368056F2#32
  | 20 => 0xB65DA20C#32
  | 21 => 0x3641014B#32
  | 22 => 0xB6296767#32
  | 23 => 0x3615C529#32
  | 24 => 0xB6054B76#32
  | 25 => 0x35EEB658#32
  | 26 => 0xB5D6F23A#32
  | 27 => 0x35C28A3B#32
  | 28 => 0xB5B0E6EF#32
  | 29 => 0x35A19018#32
  | 30 => 0xB5942572#32
  | 31 => 0x3588594C#32
  | 32 => 0xB57BD8F1#32
  | 33 => 0x35695670#32
  | 34 => 0xB558D5BB#32
  | 35 => 0x354A0FF9#32
  | 36 => 0xB53CCA00#32
  | 37 => 0x3530D21D#32
  | 38 => 0xB525FE56#32
  | 39 => 0x351C2B08#32
  | 40 => 0xB51339CD#32
  | 41 => 0x350B1097#32
  | 42 => 0xB50398F7#32
  | 43 => 0x34F97F13#32
  | 44 => 0xB4ECE6F7#32
  | 45 => 0x34E14C49#32
  | 46 => 0xB4D69568#32
  | 47 => 0x34CCABDA#32
  | 48 => 0xB4C37BD6#32
  | 49 => 0x34BAF3E5#32
  | 50 => 0xB4B30492#32
  | 51 => 0x34ABA023#32
  | 52 => 0xB4A4BA5F#32
  | 53 => 0x349E485F#32
  | 54 => 0xB4984061#32
  | 55 => 0x349299A5#32
  | 56 => 0xB48D4C4D#32
  | 57 => 0x34885143#32
  | 58 => 0xB483A221#32
  | 59 => 0x347E723F#32
  | 60 => 0xB4762200#32
  | 61 => 0x346E49FF#32
  | 62 => 0xB466E193#32
  | 63 => 0x345FE0DA#32
  | 64 => 0xB45940A1#32
  | 65 => 0x3452FA51#32
  | 66 => 0xB44D07E6#32
  | 67 => 0x344763DA#32
  | 68 => 0xB4420919#32
  | 69 => 0x343CF2FA#32
  | 70 => 0xB4381D32#32
  | 71 => 0x343383CC#32
  | 72 => 0xB42F2322#32
  | 73 => 0x342AF7D2#32
  | 74 => 0xB426FEBD#32
  | 75 => 0x342334FF#32
  | 76 => 0xB41F97EA#32
  | 77 => 0x341C2500#32
  | 78 => 0xB418D9F0#32
  | 79 => 0x3415B495#32
  | 80 => 0xB412B2ED#32
  | 81 => 0x340FD31A#32
  | 82 => 0xB40D1360#32
  | 83 => 0x340A721F#32
  | 84 => 0xB407EDD1#32
  | 85 => 0x3405850C#32
  | 86 => 0xB403367C#32
  | 87 => 0x340100E3#32
  | 88 => 0xB3FDC62E#32
  | 89 => 0x33F9B800#32
  | 90 => 0xB3F5D532#32
  | 91 => 0x33F21BD6#32
  | 92 => 0xB3EE8A1F#32
  | 93 => 0x33EB1E5A#32
  | 94 => 0xB3E7D6EF#32
  | 95 => 0x33E4B25D#32
  | 96 => 0xB3E1AF3D#32
  | 97 => 0x33DECC38#32
  | 98 => 0xB3DC0810#32
  | 99 => 0x33D96196#32
  | 100 => 0xB3D6D7AE#32
  | 101 => 0x33D4694B#32
  | 102 => 0xB3D21572#32
  | 103 => 0x33CFDB34#32
  | 104 => 0xB3CDB9B1#32
  | 105 => 0x33CBB015#32
  | 106 => 0xB3C9BD97#32
  | 107 => 0x33C7E17D#32
  | 108 => 0xB3C61B15#32
  | 109 => 0x33C469B8#32
  | 110 => 0xB3C2CCC7#32
  | 111 => 0x33C143B0#32
  | 112 => 0xB3BFCDE6#32
  | 113 => 0x33BE6AE7#32
  | 114 => 0xB3BD1A36#32
  | 115 => 0x33BBDB61#32
  | 116 => 0xB3BAADFB#32
  | 117 => 0x33B9919E#32
  | 118 => 0xB3B885EC#32
  | 119 => 0x33B78A8A#32
  | 120 => 0xB3B69F28#32
  | 121 => 0x33B5C377#32
  | 122 => 0xB3B4F732#32
  | 123 => 0x33B43A15#32
  | 124 => 0xB3B38BE5#32
  | 125 => 0x33B2EC6A#32
  | 126 => 0xB3B25B72#32
  | 127 => 0x33B1D8CF#32
  | _ => 0#32

noncomputable abbrev lit0t0_17 (i : Nat) : BitVec 32 := match i % 128 with
  | 0 => 0xB3B16459#32
  | 1 => 0x33B0FDEA#32
  | 2 => 0xB3B0A563#32
  | 3 => 0x33B05AA9#32
  | 4 => 0xB3B01DA5#32
  | 5 => 0x33AFEE43#32
  | 6 => 0xB3AFCC75#32
  | 7 => 0x33AFB831#32
  | 8 => 0xB3AFB170#32
  | 9 => 0x33AFB831#32
  | 10 => 0xB3AFCC75#32
  | 11 => 0x33AFEE43#32
  | 12 => 0xB3B01DA5#32
  | 13 => 0x33B05AA9#32
  | 14 => 0xB3B0A563#32
  | 15 => 0x33B0FDEA#32
  | 16 => 0xB3B16459#32
  | 17 => 0x33B1D8CF#32
  | 18 => 0xB3B25B72#32
  | 19 => 0x33B2EC6A#32
  | 20 => 0xB3B38BE5#32
  | 21 => 0x33B43A15#32
  | 22 => 0xB3B4F732#32
  | 23 => 0x33B5C377#32
  | 24 => 0xB3B69F28#32
  | 25 => 0x33B78A8A#32
  | 26 => 0xB3B885EC#32
  | 27 => 0x33B9919E#32
  | 28 => 0xB3BAADFB#32
  | 29 => 0x33BBDB61#32
  | 30 => 0xB3BD1A36#32
  | 31 => 0x33BE6AE7#32
  | 32 => 0xB3BFCDE6#32
  | 33 => 0x33C143B0#32
  | 34 => 0xB3C2CCC7#32
  | 35 => 0x33C469B8#32
  | 36 => 0xB3C61B15#32
  | 37 => 0x33C7E17D#32
  | 38 => 0xB3C9BD97#32
  | 39 => 0x33CBB015#32
  | 40 => 0xB3CDB9B1#32
  | 41 => 0x33CFDB34#32
  | 42 => 0xB3D21572#32
  | 43 => 0x33D4694B#32
  | 44 => 0xB3D6D7AE#32
  | 45 => 0x33D96196#32
  | 46 => 0xB3DC0810#32
  | 47 => 0x33DECC38#32
  | 48 => 0xB3E1AF3D#32
  | 49 => 0x33E4B25D#32
  | 50 => 0xB3E7D6EF#32
  | 51 => 0x33EB1E5A#32
  | 52 => 0xB3EE8A1F#32
  | 53 => 0x33F21BD6#32
  | 54 => 0xB3F5D532#32
  | 55 => 0x33F9B800#32
  | 56 => 0xB3FDC62E#32
  | 57 => 0x340100E3#32
  | 58 => 0xB403367C#32
  | 59 => 0x3405850C#32
  | 60 => 0xB407EDD1#32
  | 61 => 0x340A721F#32
  | 62 => 0xB40D1360#32
  | 63 => 0x340FD31A#32
  | 64 => 0xB412B2ED#32
  | 65 => 0x3415B495#32
  | 66 => 0xB418D9F0#32
  | 67 => 0x341C2500#32
  | 68 => 0xB41F97EA#32
  | 69 => 0x342334FF#32
  | 70 => 0xB426FEBD#32
  | 71 => 0x342AF7D2#32
  | 72 => 0xB42F2322#32
  | 73 => 0x343383CC#32
  | 74 => 0xB4381D32#32
  | 75 => 0x343CF2FA#32
  | 76 => 0xB4420919#32
  | 77 => 0x344763DA#32
  | 78 => 0xB44D07E6#32
  | 79 => 0x3452FA51#32
  | 80 => 0xB45940A1#32
  | 81 => 0x345FE0DA#32
  | 82 => 0xB466E193#32
  | 83 => 0x346E49FF#32
  | 84 => 0xB4762200#32
  | 85 => 0x347E723F#32
  | 86 => 0xB483A221#32
  | 87 => 0x34885143#32
  | 88 => 0xB48D4C4D#32
  | 89 => 0x349299A5#32
  | 90 => 0xB4984061#32
  | 91 => 0x349E485F#32
  | 92 => 0xB4A4BA5F#32
  | 93 => 0x34ABA023#32
  | 94 => 0xB4B30492#32
  | 95 => 0x34BAF3E5#32
  | 96 => 0xB4C37BD6#32
  | 97 => 0x34CCABDA#32
  | 98 => 0xB4D69568#32
  | 99 => 0x34E14C49#32
  | 100 => 0xB4ECE6F7#32
  | 101 => 0x34F97F13#32
  | 102 => 0xB50398F7#32
  | 103 => 0x350B1097#32
  | 104 => 0xB51339CD#32
  | 105 => 0x351C2B08#32
  | 106 => 0xB525FE56#32
  | 107 => 0x3530D21D#32
  | 108 => 0xB53CCA00#32
  | 109 => 0x354A0FF9#32
  | 110 => 0xB558D5BB#32
  | 111 => 0x35695670#32
  | 112 => 0xB57BD8F1#32
  | 113 => 0x3588594C#32
  | 114 => 0xB5942572#32
  | 115 => 0x35A19018#32
  | 116 => 0xB5B0E6EF#32
  | 117 => 0x35C28A3B#32
  | 118 => 0xB5D6F23A#32
  | 119 => 0x35EEB658#32
  | 120 => 0xB6054B76#32
  | 121 => 0x3615C529#32
  | 122 => 0xB6296767#32
  | 123 => 0x3641014B#32
  | 124 => 0xB65DA20C#32
  | 125 => 0x368056F2#32
  | 126 => 0xB695FBC4#32
  | 127 => 0x36B0ED61#32
  | _ => 0#32

noncomputable abbrev lit0t0_18 (i : Nat) : BitVec 32 := match i % 128 with
  | 0 => 0x36B0ED61#32
  | 1 => 0xB6D29E9B#32
  | 2 => 0x36FFBDB2#32
  | 3 => 0xB692EE32#32
  | 4 => 0x391EBB1A#32
  | 5 => 0x3B12D0DF#32
  | 6 => 0x3CA0086D#32
  | 7 => 0x3DBAD58B#32
  | 8 => 0x3E6BB748#32
  | 9 => 0x3EA069FE#32
  | 10 => 0x3E6BB748#32
  | 11 => 0x3DBAD58B#32
  | 12 => 0x3CA0086D#32
  | 13 => 0x3B12D0DF#32
  | 14 => 0x391EBB1A#32
  | 15 => 0xB692EE32#32
  | 16 => 0x36FFBDB2#32
  | 17 => 0xB6D29E9B#32
  | 18 => 0x36B0ED61#32
  | 19 => 0xB695FBC4#32
  | 20 => 0x368056F2#32
  | 21 => 0xB65DA20C#32
  | 22 => 0x3641014B#32
  | 23 => 0xB6296767#32
  | 24 => 0x3615C529#32
  | 25 => 0xB6054B76#32
  | 26 => 0x35EEB658#32
  | 27 => 0xB5D6F23A#32
  | 28 => 0x35C28A3B#32
  | 29 => 0xB5B0E6EF#32
  | 30 => 0x35A19018#32
  | 31 => 0xB5942572#32
  | 32 => 0x3588594C#32
  | 33 => 0xB57BD8F1#32
  | 34 => 0x35695670#32
  | 35 => 0xB558D5BB#32
  | 36 => 0x354A0FF9#32
  | 37 => 0xB53CCA00#32
  | 38 => 0x3530D21D#32
  | 39 => 0xB525FE56#32
  | 40 => 0x351C2B08#32
  | 41 => 0xB51339CD#32
  | 42 => 0x350B1097#32
  | 43 => 0xB50398F7#32
  | 44 => 0x34F97F13#32
  | 45 => 0xB4ECE6F7#32
  | 46 => 0x34E14C49#32
  | 47 => 0xB4D69568#32
  | 48 => 0x34CCABDA#32
  | 49 => 0xB4C37BD6#32
  | 50 => 0x34BAF3E5#32
  | 51 => 0xB4B30492#32
  | 52 => 0x34ABA023#32
  | 53 => 0xB4A4BA5F#32
  | 54 => 0x349E485F#32
  | 55 => 0xB4984061#32
  | 56 => 0x349299A5#32
  | 57 => 0xB48D4C4D#32
  | 58 => 0x34885143#32
  | 59 => 0xB483A221#32
  | 60 => 0x347E723F#32
  | 61 => 0xB4762200#32
  | 62 => 0x346E49FF#32
  | 63 => 0xB466E193#32
  | 64 => 0x345FE0DA#32
  | 65 => 0xB45940A1#32
  | 66 => 0x3452FA51#32
  | 67 => 0xB44D07E6#32
  | 68 => 0x344763DA#32
  | 69 => 0xB4420919#32
  | 70 => 0x343CF2FA#32
  | 71 => 0xB4381D32#32
  | 72 => 0x343383CC#32
  | 73 => 0xB42F2322#32
  | 74 => 0x342AF7D2#32
  | 75 => 0xB426FEBD#32
  | 76 => 0x342334FF#32
  | 77 => 0xB41F97EA#32
  | 78 => 0x341C2500#32
  | 79 => 0xB418D9F0#32
  | 80 => 0x3415B495#32
  | 81 => 0xB412B2ED#32
  | 82 => 0x340FD31A#32
  | 83 => 0xB40D1360#32
  | 84 => 0x340A721F#32
  | 85 => 0xB407EDD1#32
  | 86 => 0x3405850C#32
  | 87 => 0xB403367C#32
  | 88 => 0x340100E3#32
  | 89 => 0xB3FDC62E#32
  | 90 => 0x33F9B800#32
  | 91 => 0xB3F5D532#32
  | 92 => 0x33F21BD6#32
  | 93 => 0xB3EE8A1F#32
  | 94 => 0x33EB1E5A#32
  | 95 => 0xB3E7D6EF#32
  | 96 => 0x33E4B25D#32
  | 97 => 0xB3E1AF3D#32
  | 98 => 0x33DECC38#32
  | 99 => 0xB3DC0810#32
  | 100 => 0x33D96196#32
  | 101 => 0xB3D6D7AE#32
  | 102 => 0x33D4694B#32
  | 103 => 0xB3D21572#32
  | 104 => 0x33CFDB34#32
  | 105 => 0xB3CDB9B1#32
  | 106 => 0x33CBB015#32
  | 107 => 0xB3C9BD97#32
  | 108 => 0x33C7E17D#32
  | 109 => 0xB3C61B15#32
  | 110 => 0x33C469B8#32
  | 111 => 0xB3C2CCC7#32
  | 112 => 0x33C143B0#32
  | 113 => 0xB3BFCDE6#32
  | 114 => 0x33BE6AE7#32
  | 115 => 0xB3BD1A36#32
  | 116 => 0x33BBDB61#32
  | 117 => 0xB3BAADFB#32
  | 118 => 0x33B9919E#32
  | 119 => 0xB3B885EC#32
  | 120 => 0x33B78A8A#32
  | 121 => 0xB3B69F28#32
  | 122 => 0x33B5C377#32
  | 123 => 0xB3B4F732#32
  | 124 => 0x33B43A15#32
  | 125 => 0xB3B38BE5#32
  | 126 => 0x33B2EC6A#32
  | 127 => 0xB3B25B72#32
  | _ => 0#32

noncomputable abbrev lit0t0_19 (i : Nat) : BitVec 32 := match i % 128 with
  | 0 => 0x33B1D8CF#32
  | 1 => 0xB3B16459#32
  | 2 => 0x33B0FDEA#32
  | 3 => 0xB3B0A563#32
  | 4 => 0x33B05AA9#32
  | 5 => 0xB3B01DA5#32
  | 6 => 0x33AFEE43#32
  | 7 => 0xB3AFCC75#32
  | 8 => 0x33AFB831#32
  | 9 => 0xB3AFB170#32
  | 10 => 0x33AFB831#32
  | 11 => 0xB3AFCC75#32
  | 12 => 0x33AFEE43#32
  | 13 => 0xB3B01DA5#32
  | 14 => 0x33B05AA9#32
  | 15 => 0xB3B0A563#32
  | 16 => 0x33B0FDEA#32
  | 17 => 0xB3B16459#32
  | 18 => 0x33B1D8CF#32
  | 19 => 0xB3B25B72#32
  | 20 => 0x33B2EC6A#32
  | 21 => 0xB3B38BE5#32
  | 22 => 0x33B43A15#32
  | 23 => 0xB3B4F732#32
  | 24 => 0x33B5C377#32
  | 25 => 0xB3B69F28#32
  | 26 => 0x33B78A8A#32
  | 27 => 0xB3B885EC#32
  | 28 => 0x33B9919E#32
  | 29 => 0xB3BAADFB#32
  | 30 => 0x33BBDB61#32
  | 31 => 0xB3BD1A36#32
  | 32 => 0x33BE6AE7#32
  | 33 => 0xB3BFCDE6#32
  | 34 => 0x33C143B0#32
  | 35 => 0xB3C2CCC7#32
  | 36 => 0x33C469B8#32
  | 37 => 0xB3C61B15#32
  | 38 => 0x33C7E17D#32
  | 39 => 0xB3C9BD97#32
  | 40 => 0x33CBB015#32
  | 41 => 0xB3CDB9B1#32
  | 42 => 0x33CFDB34#32
  | 43 => 0xB3D21572#32
  | 44 => 0x33D4694B#32
  | 45 => 0xB3D6D7AE#32
  | 46 => 0x33D96196#32
  | 47 => 0xB3DC0810#32
  | 48 => 0x33DECC38#32
  | 49 => 0xB3E1AF3D#32
  | 50 => 0x33E4B25D#32
  | 51 => 0xB3E7D6EF#32
  | 52 => 0x33EB1E5A#32
  | 53 => 0xB3EE8A1F#32
  | 54 => 0x33F21BD6#32
  | 55 => 0xB3F5D532#32
  | 56 => 0x33F9B800#32
  | 57 => 0xB3FDC62E#32
  | 58 => 0x340100E3#32
  | 59 => 0xB403367C#32
  | 60 => 0x3405850C#32
  | 61 => 0xB407EDD1#32
  | 62 => 0x340A721F#32
  | 63 => 0xB40D1360#32
  | 64 => 0x340FD31A#32
  | 65 => 0xB412B2ED#32
  | 66 => 0x3415B495#32
  | 67 => 0xB418D9F0#32
  | 68 => 0x341C2500#32
  | 69 => 0xB41F97EA#32
  | 70 => 0x342334FF#32
  | 71 => 0xB426FEBD#32
  | 72 => 0x342AF7D2#32
  | 73 => 0xB42F2322#32
  | 74 => 0x343383CC#32
  | 75 => 0xB4381D32#32
  | 76 => 0x343CF2FA#32
  | 77 => 0xB4420919#32
  | 78 => 0x344763DA#32
  | 79 => 0xB44D07E6#32
  | 80 => 0x3452FA51#32
  | 81 => 0xB45940A1#32
  | 82 => 0x345FE0DA#32
  | 83 => 0xB466E193#32
  | 84 => 0x346E49FF#32
  | 85 => 0xB4762200#32
  | 86 => 0x347E723F#32
  | 87 => 0xB483A221#32
  | 88 => 0x34885143#32
  | 89 => 0xB48D4C4D#32
  | 90 => 0x349299A5#32
  | 91 => 0xB4984061#32
  | 92 => 0x349E485F#32
  | 93 => 0xB4A4BA5F#32
  | 94 => 0x34ABA023#32
  | 95 => 0xB4B30492#32
  | 96 => 0x34BAF3E5#32
  | 97 => 0xB4C37BD6#32
  | 98 => 0x34CCABDA#32
  | 99 => 0xB4D69568#32
  | 100 => 0x34E14C49#32
  | 101 => 0xB4ECE6F7#32
  | 102 => 0x34F97F13#32
  | 103 => 0xB50398F7#32
  | 104 => 0x350B1097#32
  | 105 => 0xB51339CD#32
  | 106 => 0x351C2B08#32
  | 107 => 0xB525FE56#32
  | 108 => 0x3530D21D#32
  | 109 => 0xB53CCA00#32
  | 110 => 0x354A0FF9#32
  | 111 => 0xB558D5BB#32
  | 112 => 0x35695670#32
  | 113 => 0xB57BD8F1#32
  | 114 => 0x3588594C#32
  | 115 => 0xB5942572#32
  | 116 => 0x35A19018#32
  | 117 => 0xB5B0E6EF#32
  | 118 => 0x35C28A3B#32
  | 119 => 0xB5D6F23A#32
  | 120 => 0x35EEB658#32
  | 121 => 0xB6054B76#32
  | 122 => 0x3615C529#32
  | 123 => 0xB6296767#32
  | 124 => 0x3641014B#32
  | 125 => 0xB65DA20C#32
  | 126 => 0x368056F2#32
  | 127 => 0xB695FBC4#32
  | _ => 0#32

noncomputable abbrev lit0t0_20 (i : Nat) : BitVec 32 := match i % 128 with
  | 0 => 0xB695FBC4#32
  | 1 => 0x36B0ED61#32
  | 2 => 0xB6D29E9B#32
  | 3 => 0x36FFBDB2#32
  | 4 => 0xB692EE32#32
  | 5 => 0x391EBB1A#32
  | 6 => 0x3B12D0DF#32
  | 7 => 0x3CA0086D#32
  | 8 => 0x3DBAD58B#32
  | 9 => 0x3E6BB748#32
  | 10 => 0x3EA069FE#32
  | 11 => 0x3E6BB748#32
  | 12 => 0x3DBAD58B#32
  | 13 => 0x3CA0086D#32
  | 14 => 0x3B12D0DF#32
  | 15 => 0x391EBB1A#32
  | 16 => 0xB692EE32#32
  | 17 => 0x36FFBDB2#32
  | 18 => 0xB6D29E9B#32
  | 19 => 0x36B0ED61#32
  | 20 => 0xB695FBC4#32
  | 21 => 0x368056F2#32
  | 22 => 0xB65DA20C#32
  | 23 => 0x3641014B#32
  | 24 => 0xB6296767#32
  | 25 => 0x3615C529#32
  | 26 => 0xB6054B76#32
  | 27 => 0x35EEB658#32
  | 28 => 0xB5D6F23A#32
  | 29 => 0x35C28A3B#32
  | 30 => 0xB5B0E6EF#32
  | 31 => 0x35A19018#32
  | 32 => 0xB5942572#32
  | 33 => 0x3588594C#32
  | 34 => 0xB57BD8F1#32
  | 35 => 0x35695670#32
  | 36 => 0xB558D5BB#32
  | 37 => 0x354A0FF9#32
  | 38 => 0xB53CCA00#32
  | 39 => 0x3530D21D#32
  | 40 => 0xB525FE56#32
  | 41 => 0x351C2B08#32
  | 42 => 0xB51339CD#32
  | 43 => 0x350B1097#32
  | 44 => 0xB50398F7#32
  | 45 => 0x34F97F13#32
  | 46 => 0xB4ECE6F7#32
  | 47 => 0x34E14C49#32
  | 48 => 0xB4D69568#32
  | 49 => 0x34CCABDA#32
  | 50 => 0xB4C37BD6#32
  | 51 => 0x34BAF3E5#32
  | 52 => 0xB4B30492#32
  | 53 => 0x34ABA023#32
  | 54 => 0xB4A4BA5F#32
  | 55 => 0x349E485F#32
  | 56 => 0xB4984061#32
  | 57 => 0x349299A5#32
  | 58 => 0xB48D4C4D#32
  | 59 => 0x34885143#32
  | 60 => 0xB483A221#32
  | 61 => 0x347E723F#32
  | 62 => 0xB4762200#32
  | 63 => 0x346E49FF#32
  | 64 => 0xB466E193#32
  | 65 => 0x345FE0DA#32
  | 66 => 0xB45940A1#32
  | 67 => 0x3452FA51#32
  | 68 => 0xB44D07E6#32
  | 69 => 0x344763DA#32
  | 70 => 0xB4420919#32
  | 71 => 0x343CF2FA#32
  | 72 => 0xB4381D32#32
  | 73 => 0x343383CC#32
  | 74 => 0xB42F2322#32
  | 75 => 0x342AF7D2#32
  | 76 => 0xB426FEBD#32
  | 77 => 0x342334FF#32
  | 78 => 0xB41F97EA#32
  | 79 => 0x341C2500#32
  | 80 => 0xB418D9F0#32
  | 81 => 0x3415B495#32
  | 82 => 0xB412B2ED#32
  | 83 => 0x340FD31A#32
  | 84 => 0xB40D1360#32
  | 85 => 0x340A721F#32
  | 86 => 0xB407EDD1#32
  | 87 => 0x3405850C#32
  | 88 => 0xB403367C#32
  | 89 => 0x340100E3#32
  | 90 => 0xB3FDC62E#32
  | 91 => 0x33F9B800#32
  | 92 => 0xB3F5D532#32
  | 93 => 0x33F21BD6#32
  | 94 => 0xB3EE8A1F#32
  | 95 => 0x33EB1E5A#32
  | 96 => 0xB3E7D6EF#32
  | 97 => 0x33E4B25D#32
  | 98 => 0xB3E1AF3D#32
  | 99 => 0x33DECC38#32
  | 100 => 0xB3DC0810#32
  | 101 => 0x33D96196#32
  | 102 => 0xB3D6D7AE#32
  | 103 => 0x33D4694B#32
  | 104 => 0xB3D21572#32
  | 105 => 0x33CFDB34#32
  | 106 => 0xB3CDB9B1#32
  | 107 => 0x33CBB015#32
  | 108 => 0xB3C9BD97#32
  | 109 => 0x33C7E17D#32
  | 110 => 0xB3C61B15#32
  | 111 => 0x33C469B8#32
  | 112 => 0xB3C2CCC7#32
  | 113 => 0x33C143B0#32
  | 114 => 0xB3BFCDE6#32
  | 115 => 0x33BE6AE7#32
  | 116 => 0xB3BD1A36#32
  | 117 => 0x33BBDB61#32
  | 118 => 0xB3BAADFB#32
  | 119 => 0x33B9919E#32
  | 120 => 0xB3B885EC#32
  | 121 => 0x33B78A8A#32
  | 122 => 0xB3B69F28#32
  | 123 => 0x33B5C377#32
  | 124 => 0xB3B4F732#32
  | 125 => 0x33B43A15#32
  | 126 => 0xB3B38BE5#32
  | 127 => 0x33B2EC6A#32
  | _ => 0#32

noncomputable abbrev lit0t0_21 (i : Nat) : BitVec 32 := match i % 128 with
  | 0 => 0xB3B25B72#32
  | 1 => 0x33B1D8CF#32
  | 2 => 0xB3B16459#32
  | 3 => 0x33B0FDEA#32
  | 4 => 0xB3B0A563#32
  | 5 => 0x33B05AA9#32
  | 6 => 0xB3B01DA5#32
  | 7 => 0x33AFEE43#32
  | 8 => 0xB3AFCC75#32
  | 9 => 0x33AFB831#32
  | 10 => 0xB3AFB170#32
  | 11 => 0x33AFB831#32
  | 12 => 0xB3AFCC75#32
  | 13 => 0x33AFEE43#32
  | 14 => 0xB3B01DA5#32
  | 15 => 0x33B05AA9#32
  | 16 => 0xB3B0A563#32
  | 17 => 0x33B0FDEA#32
  | 18 => 0xB3B16459#32
  | 19 => 0x33B1D8CF#32
  | 20 => 0xB3B25B72#32
  | 21 => 0x33B2EC6A#32
  | 22 => 0xB3B38BE5#32
  | 23 => 0x33B43A15#32
  | 24 => 0xB3B4F732#32
  | 25 => 0x33B5C377#32
  | 26 => 0xB3B69F28#32
  | 27 => 0x33B78A8A#32
  | 28 => 0xB3B885EC#32
  | 29 => 0x33B9919E#32
  | 30 => 0xB3BAADFB#32
  | 31 => 0x33BBDB61#32
  | 32 => 0xB3BD1A36#32
  | 33 => 0x33BE6AE7#32
  | 34 => 0xB3BFCDE6#32
  | 35 => 0x33C143B0#32
  | 36 => 0xB3C2CCC7#32
  | 37 => 0x33C469B8#32
  | 38 => 0xB3C61B15#32
  | 39 => 0x33C7E17D#32
  | 40 => 0xB3C9BD97#32
  | 41 => 0x33CBB015#32
  | 42 => 0xB3CDB9B1#32
  | 43 => 0x33CFDB34#32
  | 44 => 0xB3D21572#32
  | 45 => 0x33D4694B#32
  | 46 => 0xB3D6D7AE#32
  | 47 => 0x33D96196#32
  | 48 => 0xB3DC0810#32
  | 49 => 0x33DECC38#32
  | 50 => 0xB3E1AF3D#32
  | 51 => 0x33E4B25D#32
  | 52 => 0xB3E7D6EF#32
  | 53 => 0x33EB1E5A#32
  | 54 => 0xB3EE8A1F#32
  | 55 => 0x33F21BD6#32
  | 56 => 0xB3F5D532#32
  | 57 => 0x33F9B800#32
  | 58 => 0xB3FDC62E#32
  | 59 => 0x340100E3#32
  | 60 => 0xB403367C#32
  | 61 => 0x3405850C#32
  | 62 => 0xB407EDD1#32
  | 63 => 0x340A721F#32
  | 64 => 0xB40D1360#32
  | 65 => 0x340FD31A#32
  | 66 => 0xB412B2ED#32
  | 67 => 0x3415B495#32
  | 68 => 0xB418D9F0#32
  | 69 => 0x341C2500#32
  | 70 => 0xB41F97EA#32
  | 71 => 0x342334FF#32
  | 72 => 0xB426FEBD#32
  | 73 => 0x342AF7D2#32
  | 74 => 0xB42F2322#32
  | 75 => 0x343383CC#32
  | 76 => 0xB4381D32#32
  | 77 => 0x343CF2FA#32
  | 78 => 0xB4420919#32
  | 79 => 0x344763DA#32
  | 80 => 0xB44D07E6#32
  | 81 => 0x3452FA51#32
  | 82 => 0xB45940A1#32
  | 83 => 0x345FE0DA#32
  | 84 => 0xB466E193#32
  | 85 => 0x346E49FF#32
  | 86 => 0xB4762200#32
  | 87 => 0x347E723F#32
  | 88 => 0xB483A221#32
  | 89 => 0x34885143#32
  | 90 => 0xB48D4C4D#32
  | 91 => 0x349299A5#32
  | 92 => 0xB4984061#32
  | 93 => 0x349E485F#32
  | 94 => 0xB4A4BA5F#32
  | 95 => 0x34ABA023#32
  | 96 => 0xB4B30492#32
  | 97 => 0x34BAF3E5#32
  | 98 => 0xB4C37BD6#32
  | 99 => 0x34CCABDA#32
  | 100 => 0xB4D69568#32
  | 101 => 0x34E14C49#32
  | 102 => 0xB4ECE6F7#32
  | 103 => 0x34F97F13#32
  | 104 => 0xB50398F7#32
  | 105 => 0x350B1097#32
  | 106 => 0xB51339CD#32
  | 107 => 0x351C2B08#32
  | 108 => 0xB525FE56#32
  | 109 => 0x3530D21D#32
  | 110 => 0xB53CCA00#32
  | 111 => 0x354A0FF9#32
  | 112 => 0xB558D5BB#32
  | 113 => 0x35695670#32
  | 114 => 0xB57BD8F1#32
  | 115 => 0x3588594C#32
  | 116 => 0xB5942572#32
  | 117 => 0x35A19018#32
  | 118 => 0xB5B0E6EF#32
  | 119 => 0x35C28A3B#32
  | 120 => 0xB5D6F23A#32
  | 121 => 0x35EEB658#32
  | 122 => 0xB6054B76#32
  | 123 => 0x3615C529#32
  | 124 => 0xB6296767#32
  | 125 => 0x3641014B#32
  | 126 => 0xB65DA20C#32
  | 127 => 0x368056F2#32
  | _ => 0#32

noncomputable abbrev lit0t0_22 (i : Nat) : BitVec 32 := match i % 128 with
  | 0 => 0x368056F2#32
  | 1 => 0xB695FBC4#32
  | 2 => 0x36B0ED61#32
  | 3 => 0xB6D29E9B#32
  | 4 => 0x36FFBDB2#32
  | 5 => 0xB692EE32#32
  | 6 => 0x391EBB1A#32
  | 7 => 0x3B12D0DF#32
  | 8 => 0x3CA0086D#32
  | 9 => 0x3DBAD58B#32
  | 10 => 0x3E6BB748#32
  | 11 => 0x3EA069FE#32
  | 12 => 0x3E6BB748#32
  | 13 => 0x3DBAD58B#32
  | 14 => 0x3CA0086D#32
  | 15 => 0x3B12D0DF#32
  | 16 => 0x391EBB1A#32
  | 17 => 0xB692EE32#32
  | 18 => 0x36FFBDB2#32
  | 19 => 0xB6D29E9B#32
  | 20 => 0x36B0ED61#32
  | 21 => 0xB695FBC4#32
  | 22 => 0x368056F2#32
  | 23 => 0xB65DA20C#32
  | 24 => 0x3641014B#32
  | 25 => 0xB6296767#32
  | 26 => 0x3615C529#32
  | 27 => 0xB6054B76#32
  | 28 => 0x35EEB658#32
  | 29 => 0xB5D6F23A#32
  | 30 => 0x35C28A3B#32
  | 31 => 0xB5B0E6EF#32
  | 32 => 0x35A19018#32
  | 33 => 0xB5942572#32
  | 34 => 0x3588594C#32
  | 35 => 0xB57BD8F1#32
  | 36 => 0x35695670#32
  | 37 => 0xB558D5BB#32
  | 38 => 0x354A0FF9#32
  | 39 => 0xB53CCA00#32
  | 40 => 0x3530D21D#32
  | 41 => 0xB525FE56#32
  | 42 => 0x351C2B08#32
  | 43 => 0xB51339CD#32
  | 44 => 0x350B1097#32
  | 45 => 0xB50398F7#32
  | 46 => 0x34F97F13#32
  | 47 => 0xB4ECE6F7#32
  | 48 => 0x34E14C49#32
  | 49 => 0xB4D69568#32
  | 50 => 0x34CCABDA#32
  | 51 => 0xB4C37BD6#32
  | 52 => 0x34BAF3E5#32
  | 53 => 0xB4B30492#32
  | 54 => 0x34ABA023#32
  | 55 => 0xB4A4BA5F#32
  | 56 => 0x349E485F#32
  | 57 => 0xB4984061#32
  | 58 => 0x349299A5#32
  | 59 => 0xB48D4C4D#32
  | 60 => 0x34885142#32
  | 61 => 0xB483A221#32
  | 62 => 0x347E723F#32
  | 63 => 0xB4762200#32
  | 64 => 0x346E49FF#32
  | 65 => 0xB466E193#32
  | 66 => 0x345FE0DA#32
  | 67 => 0xB45940A1#32
  | 68 => 0x3452FA51#32
  | 69 => 0xB44D07E6#32
  | 70 => 0x344763DA#32
  | 71 => 0xB4420919#32
  | 72 => 0x343CF2FA#32
  | 73 => 0xB4381D32#32
  | 74 => 0x343383CC#32
  | 75 => 0xB42F2322#32
  | 76 => 0x342AF7D2#32
  | 77 => 0xB426FEBD#32
  | 78 => 0x342334FF#32
  | 79 => 0xB41F97EA#32
  | 80 => 0x341C2500#32
  | 81 => 0xB418D9F0#32
  | 82 => 0x3415B495#32
  | 83 => 0xB412B2ED#32
  | 84 => 0x340FD31A#32
  | 85 => 0xB40D1360#32
  | 86 => 0x340A721F#32
  | 87 => 0xB407EDD1#32
  | 88 => 0x3405850C#32
  | 89 => 0xB403367C#32
  | 90 => 0x340100E3#32
  | 91 => 0xB3FDC62E#32
  | 92 => 0x33F9B800#32
  | 93 => 0xB3F5D532#32
  | 94 => 0x33F21BD6#32
  | 95 => 0xB3EE8A1F#32
  | 96 => 0x33EB1E5A#32
  | 97 => 0xB3E7D6EF#32
  | 98 => 0x33E4B25D#32
  | 99 => 0xB3E1AF3D#32
  | 100 => 0x33DECC38#32
  | 101 => 0xB3DC0810#32
  | 102 => 0x33D96196#32
  | 103 => 0xB3D6D7AE#32
  | 104 => 0x33D4694B#32
  | 105 => 0xB3D21572#32
  | 106 => 0x33CFDB34#32
  | 107 => 0xB3CDB9B1#32
  | 108 => 0x33CBB015#32
  | 109 => 0xB3C9BD97#32
  | 110 => 0x33C7E17D#32
  | 111 => 0xB3C61B15#32
  | 112 => 0x33C469B8#32
  | 113 => 0xB3C2CCC7#32
  | 114 => 0x33C143B0#32
  | 115 => 0xB3BFCDE6#32
  | 116 => 0x33BE6AE7#32
  | 117 => 0xB3BD1A36#32
  | 118 => 0x33BBDB61#32
  | 119 => 0xB3BAADFB#32
  | 120 => 0x33B9919E#32
  | 121 => 0xB3B885EC#32
  | 122 => 0x33B78A8A#32
  | 123 => 0xB3B69F28#32
  | 124 => 0x33B5C377#32
  | 125 => 0xB3B4F732#32
  | 126 => 0x33B43A15#32
  | 127 => 0xB3B38BE5#32
  | _ => 0#32

noncomputable abbrev lit0t0_23 (i : Nat) : BitVec 32 := match i % 128 with
  | 0 => 0x33B2EC6A#32
  | 1 => 0xB3B25B72#32
  | 2 => 0x33B1D8CF#32
  | 3 => 0xB3B16459#32
  | 4 => 0x33B0FDEA#32
  | 5 => 0xB3B0A563#32
  | 6 => 0x33B05AA9#32
  | 7 => 0xB3B01DA5#32
  | 8 => 0x33AFEE43#32
  | 9 => 0xB3AFCC75#32
  | 10 => 0x33AFB831#32
  | 11 => 0xB3AFB170#32
  | 12 => 0x33AFB831#32
  | 13 => 0xB3AFCC75#32
  | 14 => 0x33AFEE43#32
  | 15 => 0xB3B01DA5#32
  | 16 => 0x33B05AA9#32
  | 17 => 0xB3B0A563#32
  | 18 => 0x33B0FDEA#32
  | 19 => 0xB3B16459#32
  | 20 => 0x33B1D8CF#32
  | 21 => 0xB3B25B72#32
  | 22 => 0x33B2EC6A#32
  | 23 => 0xB3B38BE5#32
  | 24 => 0x33B43A15#32
  | 25 => 0xB3B4F732#32
  | 26 => 0x33B5C377#32
  | 27 => 0xB3B69F28#32
  | 28 => 0x33B78A8A#32
  | 29 => 0xB3B885EC#32
  | 30 => 0x33B9919E#32
  | 31 => 0xB3BAADFB#32
  | 32 => 0x33BBDB61#32
  | 33 => 0xB3BD1A36#32
  | 34 => 0x33BE6AE7#32
  | 35 => 0xB3BFCDE6#32
  | 36 => 0x33C143B0#32
  | 37 => 0xB3C2CCC7#32
  | 38 => 0x33C469B8#32
  | 39 => 0xB3C61B15#32
  | 40 => 0x33C7E17D#32
  | 41 => 0xB3C9BD97#32
  | 42 => 0x33CBB015#32
  | 43 => 0xB3CDB9B1#32
  | 44 => 0x33CFDB34#32
  | 45 => 0xB3D21572#32
  | 46 => 0x33D4694B#32
  | 47 => 0xB3D6D7AE#32
  | 48 => 0x33D96196#32
  | 49 => 0xB3DC0810#32
  | 50 => 0x33DECC38#32
  | 51 => 0xB3E1AF3D#32
  | 52 => 0x33E4B25D#32
  | 53 => 0xB3E7D6EF#32
  | 54 => 0x33EB1E5A#32
  | 55 => 0xB3EE8A1F#32
  | 56 => 0x33F21BD6#32
  | 57 => 0xB3F5D532#32
  | 58 => 0x33F9B800#32
  | 59 => 0xB3FDC62E#32
  | 60 => 0x340100E3#32
  | 61 => 0xB403367C#32
  | 62 => 0x3405850C#32
  | 63 => 0xB407EDD1#32
  | 64 => 0x340A721F#32
  | 65 => 0xB40D1360#32
  | 66 => 0x340FD31A#32
  | 67 => 0xB412B2ED#32
  | 68 => 0x3415B495#32
  | 69 => 0xB418D9F0#32
  | 70 => 0x341C2500#32
  | 71 => 0xB41F97EA#32
  | 72 => 0x342334FF#32
  | 73 => 0xB426FEBD#32
  | 74 => 0x342AF7D2#32
  | 75 => 0xB42F2322#32
  | 76 => 0x343383CC#32
  | 77 => 0xB4381D32#32
  | 78 => 0x343CF2FA#32
  | 79 => 0xB4420919#32
  | 80 => 0x344763DA#32
  | 81 => 0xB44D07E6#32
  | 82 => 0x3452FA51#32
  | 83 => 0xB45940A1#32
  | 84 => 0x345FE0DA#32
  | 85 => 0xB466E193#32
  | 86 => 0x346E49FF#32
  | 87 => 0xB4762200#32
  | 88 => 0x347E723F#32
  | 89 => 0xB483A221#32
  | 90 => 0x34885143#32
  | 91 => 0xB48D4C4D#32
  | 92 => 0x349299A5#32
  | 93 => 0xB4984061#32
  | 94 => 0x349E485F#32
  | 95 => 0xB4A4BA5F#32
  | 96 => 0x34ABA023#32
  | 97 => 0xB4B30492#32
  | 98 => 0x34BAF3E5#32
  | 99 => 0xB4C37BD6#32
  | 100 => 0x34CCABDA#32
  | 101 => 0xB4D69568#32
  | 102 => 0x34E14C49#32
  | 103 => 0xB4ECE6F7#32
  | 104 => 0x34F97F13#32
  | 105 => 0xB50398F7#32
  | 106 => 0x350B1097#32
  | 107 => 0xB51339CD#32
  | 108 => 0x351C2B08#32
  | 109 => 0xB525FE56#32
  | 110 => 0x3530D21D#32
  | 111 => 0xB53CCA00#32
  | 112 => 0x354A0FF9#32
  | 113 => 0xB558D5BB#32
  | 114 => 0x35695670#32
  | 115 => 0xB57BD8F1#32
  | 116 => 0x3588594C#32
  | 117 => 0xB5942572#32
  | 118 => 0x35A19018#32
  | 119 => 0xB5B0E6EF#32
  | 120 => 0x35C28A3B#32
  | 121 => 0xB5D6F23A#32
  | 122 => 0x35EEB658#32
  | 123 => 0xB6054B76#32
  | 124 => 0x3615C529#32
  | 125 => 0xB6296767#32
  | 126 => 0x3641014B#32
  | 127 => 0xB65DA20C#32
  | _ => 0#32

noncomputable abbrev lit0t0_24 (i : Nat) : BitVec 32 := match i % 128 with
  | 0 => 0xB65DA20C#32
  | 1 => 0x368056F2#32
  | 2 => 0xB695FBC4#32
  | 3 => 0x36B0ED61#32
  | 4 => 0xB6D29E9B#32
  | 5 => 0x36FFBDB2#32
  | 6 => 0xB692EE32#32
  | 7 => 0x391EBB1A#32
  | 8 => 0x3B12D0DF#32
  | 9 => 0x3CA0086D#32
  | 10 => 0x3DBAD58B#32
  | 11 => 0x3E6BB748#32
  | 12 => 0x3EA069FE#32
  | 13 => 0x3E6BB748#32
  | 14 => 0x3DBAD58B#32
  | 15 => 0x3CA0086D#32
  | 16 => 0x3B12D0DF#32
  | 17 => 0x391EBB1A#32
  | 18 => 0xB692EE32#32
  | 19 => 0x36FFBDB2#32
  | 20 => 0xB6D29E9B#32
  | 21 => 0x36B0ED61#32
  | 22 => 0xB695FBC4#32
  | 23 => 0x368056F2#32
  | 24 => 0xB65DA20C#32
  | 25 => 0x3641014B#32
  | 26 => 0xB6296767#32
  | 27 => 0x3615C529#32
  | 28 => 0xB6054B76#32
  | 29 => 0x35EEB658#32
  | 30 => 0xB5D6F23A#32
  | 31 => 0x35C28A3B#32
  | 32 => 0xB5B0E6EF#32
  | 33 => 0x35A19018#32
  | 34 => 0xB5942572#32
  | 35 => 0x3588594C#32
  | 36 => 0xB57BD8F1#32
  | 37 => 0x35695670#32
  | 38 => 0xB558D5BB#32
  | 39 => 0x354A0FF9#32
  | 40 => 0xB53CCA00#32
  | 41 => 0x3530D21D#32
  | 42 => 0xB525FE56#32
  | 43 => 0x351C2B08#32
  | 44 => 0xB51339CD#32
  | 45 => 0x350B1097#32
  | 46 => 0xB50398F7#32
  | 47 => 0x34F97F13#32
  | 48 => 0xB4ECE6F7#32
  | 49 => 0x34E14C49#32
  | 50 => 0xB4D69568#32
  | 51 => 0x34CCABDA#32
  | 52 => 0xB4C37BD6#32
  | 53 => 0x34BAF3E5#32
  | 54 => 0xB4B30492#32
  | 55 => 0x34ABA023#32
  | 56 => 0xB4A4BA5F#32
  | 57 => 0x349E485F#32
  | 58 => 0xB4984061#32
  | 59 => 0x349299A5#32
  | 60 => 0xB48D4C4D#32
  | 61 => 0x34885142#32
  | 62 => 0xB483A221#32
  | 63 => 0x347E723F#32
  | 64 => 0xB4762200#32
  | 65 => 0x346E49FF#32
  | 66 => 0xB466E193#32
  | 67 => 0x345FE0DA#32
  | 68 => 0xB45940A1#32
  | 69 => 0x3452FA51#32
  | 70 => 0xB44D07E6#32
  | 71 => 0x344763DA#32
  | 72 => 0xB4420919#32
  | 73 => 0x343CF2FA#32
  | 74 => 0xB4381D32#32
  | 75 => 0x343383CC#32
  | 76 => 0xB42F2322#32
  | 77 => 0x342AF7D2#32
  | 78 => 0xB426FEBD#32
  | 79 => 0x342334FF#32
  | 80 => 0xB41F97EA#32
  | 81 => 0x341C2500#32
  | 82 => 0xB418D9F0#32
  | 83 => 0x3415B495#32
  | 84 => 0xB412B2ED#32
  | 85 => 0x340FD31A#32
  | 86 => 0xB40D1360#32
  | 87 => 0x340A721F#32
  | 88 => 0xB407EDD1#32
  | 89 => 0x3405850C#32
  | 90 => 0xB403367C#32
  | 91 => 0x340100E3#32
  | 92 => 0xB3FDC62E#32
  | 93 => 0x33F9B800#32
  | 94 => 0xB3F5D532#32
  | 95 => 0x33F21BD6#32
  | 96 => 0xB3EE8A1F#32
  | 97 => 0x33EB1E5A#32
  | 98 => 0xB3E7D6EF#32
  | 99 => 0x33E4B25D#32
  | 100 => 0xB3E1AF3D#32
  | 101 => 0x33DECC38#32
  | 102 => 0xB3DC0810#32
  | 103 => 0x33D96196#32
  | 104 => 0xB3D6D7AE#32
  | 105 => 0x33D4694B#32
  | 106 => 0xB3D21572#32
  | 107 => 0x33CFDB34#32
  | 108 => 0xB3CDB9B1#32
  | 109 => 0x33CBB015#32
  | 110 => 0xB3C9BD97#32
  | 111 => 0x33C7E17D#32
  | 112 => 0xB3C61B15#32
  | 113 => 0x33C469B8#32
  | 114 => 0xB3C2CCC7#32
  | 115 => 0x33C143B0#32
  | 116 => 0xB3BFCDE6#32
  | 117 => 0x33BE6AE7#32
  | 118 => 0xB3BD1A36#32
  | 119 => 0x33BBDB61#32
  | 120 => 0xB3BAADFB#32
  | 121 => 0x33B9919E#32
  | 122 => 0xB3B885EC#32
  | 123 => 0x33B78A8A#32
  | 124 => 0xB3B69F28#32
  | 125 => 0x33B5C377#32
  | 126 => 0xB3B4F732#32
  | 127 => 0x33B43A15#32
  | _ => 0#32

noncomputable abbrev lit0t0_25 (i : Nat) : BitVec 32 := match i % 128 with
  | 0 => 0xB3B38BE5#32
  | 1 => 0x33B2EC6A#32
  | 2 => 0xB3B25B72#32
  | 3 => 0x33B1D8CF#32
  | 4 => 0xB3B16459#32
  | 5 => 0x33B0FDEA#32
  | 6 => 0xB3B0A563#32
  | 7 => 0x33B05AA9#32
  | 8 => 0xB3B01DA5#32
  | 9 => 0x33AFEE43#32
  | 10 => 0xB3AFCC75#32
  | 11 => 0x33AFB831#32
  | 12 => 0xB3AFB170#32
  | 13 => 0x33AFB831#32
  | 14 => 0xB3AFCC75#32
  | 15 => 0x33AFEE43#32
  | 16 => 0xB3B01DA5#32
  | 17 => 0x33B05AA9#32
  | 18 => 0xB3B0A563#32
  | 19 => 0x33B0FDEA#32
  | 20 => 0xB3B16459#32
  | 21 => 0x33B1D8CF#32
  | 22 => 0xB3B25B72#32
  | 23 => 0x33B2EC6A#32
  | 24 => 0xB3B38BE5#32
  | 25 => 0x33B43A15#32
  | 26 => 0xB3B4F732#32
  | 27 => 0x33B5C377#32
  | 28 => 0xB3B69F28#32
  | 29 => 0x33B78A8A#32
  | 30 => 0xB3B885EC#32
  | 31 => 0x33B9919E#32
  | 32 => 0xB3BAADFB#32
  | 33 => 0x33BBDB61#32
  | 34 => 0xB3BD1A36#32
  | 35 => 0x33BE6AE7#32
  | 36 => 0xB3BFCDE6#32
  | 37 => 0x33C143B0#32
  | 38 => 0xB3C2CCC7#32
  | 39 => 0x33C469B8#32
  | 40 => 0xB3C61B15#32
  | 41 => 0x33C7E17D#32
  | 42 => 0xB3C9BD97#32
  | 43 => 0x33CBB015#32
  | 44 => 0xB3CDB9B1#32
  | 45 => 0x33CFDB34#32
  | 46 => 0xB3D21572#32
  | 47 => 0x33D4694B#32
  | 48 => 0xB3D6D7AE#32
  | 49 => 0x33D96196#32
  | 50 => 0xB3DC0810#32
  | 51 => 0x33DECC38#32
  | 52 => 0xB3E1AF3D#32
  | 53 => 0x33E4B25D#32
  | 54 => 0xB3E7D6EF#32
  | 55 => 0x33EB1E5A#32
  | 56 => 0xB3EE8A1F#32
  | 57 => 0x33F21BD6#32
  | 58 => 0xB3F5D532#32
  | 59 => 0x33F9B800#32
  | 60 => 0xB3FDC62E#32
  | 61 => 0x340100E3#32
  | 62 => 0xB403367C#32
  | 63 => 0x3405850C#32
  | 64 => 0xB407EDD1#32
  | 65 => 0x340A721F#32
  | 66 => 0xB40D1360#32
  | 67 => 0x340FD31A#32
  | 68 => 0xB412B2ED#32
  | 69 => 0x3415B495#32
  | 70 => 0xB418D9F0#32
  | 71 => 0x341C2500#32
  | 72 => 0xB41F97EA#32
  | 73 => 0x342334FF#32
  | 74 => 0xB426FEBD#32
  | 75 => 0x342AF7D2#32
  | 76 => 0xB42F2322#32
  | 77 => 0x343383CC#32
  | 78 => 0xB4381D32#32
  | 79 => 0x343CF2FA#32
  | 80 => 0xB4420919#32
  | 81 => 0x344763DA#32
  | 82 => 0xB44D07E6#32
  | 83 => 0x3452FA51#32
  | 84 => 0xB45940A1#32
  | 85 => 0x345FE0DA#32
  | 86 => 0xB466E193#32
  | 87 => 0x346E49FF#32
  | 88 => 0xB4762200#32
  | 89 => 0x347E723F#32
  | 90 => 0xB483A221#32
  | 91 => 0x34885142#32
  | 92 => 0xB48D4C4D#32
  | 93 => 0x349299A5#32
  | 94 => 0xB4984061#32
  | 95 => 0x349E485F#32
  | 96 => 0xB4A4BA5F#32
  | 97 => 0x34ABA023#32
  | 98 => 0xB4B30492#32
  | 99 => 0x34BAF3E5#32
  | 100 => 0xB4C37BD6#32
  | 101 => 0x34CCABDA#32
  | 102 => 0xB4D69568#32
  | 103 => 0x34E14C49#32
  | 104 => 0xB4ECE6F7#32
  | 105 => 0x34F97F13#32
  | 106 => 0xB50398F7#32
  | 107 => 0x350B1097#32
  | 108 => 0xB51339CD#32
  | 109 => 0x351C2B08#32
  | 110 => 0xB525FE56#32
  | 111 => 0x3530D21D#32
  | 112 => 0xB53CCA00#32
  | 113 => 0x354A0FF9#32
  | 114 => 0xB558D5BB#32
  | 115 => 0x35695670#32
  | 116 => 0xB57BD8F1#32
  | 117 => 0x3588594C#32
  | 118 => 0xB5942572#32
  | 119 => 0x35A19018#32
  | 120 => 0xB5B0E6EF#32
  | 121 => 0x35C28A3B#32
  | 122 => 0xB5D6F23A#32
  | 123 => 0x35EEB658#32
  | 124 => 0xB6054B76#32
  | 125 => 0x3615C529#32
  | 126 => 0xB6296767#32
  | 127 => 0x3641014B#32
  | _ => 0#32

noncomputable abbrev lit0t0_26 (i : Nat) : BitVec 32 := match i % 128 with
  | 0 => 0x3641014B#32
  | 1 => 0xB65DA20C#32
  | 2 => 0x368056F2#32
  | 3 => 0xB695FBC4#32
  | 4 => 0x36B0ED61#32
  | 5 => 0xB6D29E9B#32
  | 6 => 0x36FFBDB2#32
  | 7 => 0xB692EE32#32
  | 8 => 0x391EBB1A#32
  | 9 => 0x3B12D0DF#32
  | 10 => 0x3CA0086D#32
  | 11 => 0x3DBAD58B#32
  | 12 => 0x3E6BB748#32
  | 13 => 0x3EA069FE#32
  | 14 => 0x3E6BB748#32
  | 15 => 0x3DBAD58B#32
  | 16 => 0x3CA0086D#32
  | 17 => 0x3B12D0DF#32
  | 18 => 0x391EBB1A#32
  | 19 => 0xB692EE32#32
  | 20 => 0x36FFBDB2#32
  | 21 => 0xB6D29E9B#32
  | 22 => 0x36B0ED61#32
  | 23 => 0xB695FBC4#32
  | 24 => 0x368056F2#32
  | 25 => 0xB65DA20C#32
  | 26 => 0x3641014B#32
  | 27 => 0xB6296767#32
  | 28 => 0x3615C529#32
  | 29 => 0xB6054B76#32
  | 30 => 0x35EEB658#32
  | 31 => 0xB5D6F23A#32
  | 32 => 0x35C28A3B#32
  | 33 => 0xB5B0E6EF#32
  | 34 => 0x35A19018#32
  | 35 => 0xB5942572#32
  | 36 => 0x3588594C#32
  | 37 => 0xB57BD8F1#32
  | 38 => 0x35695670#32
  | 39 => 0xB558D5BB#32
  | 40 => 0x354A0FF9#32
  | 41 => 0xB53CCA00#32
  | 42 => 0x3530D21D#32
  | 43 => 0xB525FE56#32
  | 44 => 0x351C2B08#32
  | 45 => 0xB51339CD#32
  | 46 => 0x350B1097#32
  | 47 => 0xB50398F7#32
  | 48 => 0x34F97F13#32
  | 49 => 0xB4ECE6F7#32
  | 50 => 0x34E14C49#32
  | 51 => 0xB4D69568#32
  | 52 => 0x34CCABDA#32
  | 53 => 0xB4C37BD6#32
  | 54 => 0x34BAF3E5#32
  | 55 => 0xB4B30492#32
  | 56 => 0x34ABA023#32
  | 57 => 0xB4A4BA5F#32
  | 58 => 0x349E485F#32
  | 59 => 0xB4984061#32
  | 60 => 0x349299A5#32
  | 61 => 0xB48D4C4D#32
  | 62 => 0x34885142#32
  | 63 => 0xB483A221#32
  | 64 => 0x347E723F#32
  | 65 => 0xB4762200#32
  | 66 => 0x346E49FF#32
  | 67 => 0xB466E193#32
  | 68 => 0x345FE0DA#32
  | 69 => 0xB45940A1#32
  | 70 => 0x3452FA51#32
  | 71 => 0xB44D07E6#32
  | 72 => 0x344763DA#32
  | 73 => 0xB4420919#32
  | 74 => 0x343CF2FA#32
  | 75 => 0xB4381D32#32
  | 76 => 0x343383CC#32
  | 77 => 0xB42F2322#32
  | 78 => 0x342AF7D2#32
  | 79 => 0xB426FEBD#32
  | 80 => 0x342334FF#32
  | 81 => 0xB41F97EA#32
  | 82 => 0x341C2500#32
  | 83 => 0xB418D9F0#32
  | 84 => 0x3415B495#32
  | 85 => 0xB412B2ED#32
  | 86 => 0x340FD31A#32
  | 87 => 0xB40D1360#32
  | 88 => 0x340A721F#32
  | 89 => 0xB407EDD1#32
  | 90 => 0x3405850C#32
  | 91 => 0xB403367C#32
  | 92 => 0x340100E3#32
  | 93 => 0xB3FDC62E#32
  | 94 => 0x33F9B800#32
  | 95 => 0xB3F5D532#32
  | 96 => 0x33F21BD6#32
  | 97 => 0xB3EE8A1F#32
  | 98 => 0x33EB1E5A#32
  | 99 => 0xB3E7D6EF#32
  | 100 => 0x33E4B25D#32
  | 101 => 0xB3E1AF3D#32
  | 102 => 0x33DECC38#32
  | 103 => 0xB3DC0810#32
  | 104 => 0x33D96196#32
  | 105 => 0xB3D6D7AE#32
  | 106 => 0x33D4694B#32
  | 107 => 0xB3D21572#32
  | 108 => 0x33CFDB34#32
  | 109 => 0xB3CDB9B1#32
  | 110 => 0x33CBB015#32
  | 111 => 0xB3C9BD97#32
  | 112 => 0x33C7E17D#32
  | 113 => 0xB3C61B15#32
  | 114 => 0x33C469B8#32
  | 115 => 0xB3C2CCC7#32
  | 116 => 0x33C143B0#32
  | 117 => 0xB3BFCDE6#32
  | 118 => 0x33BE6AE7#32
  | 119 => 0xB3BD1A36#32
  | 120 => 0x33BBDB61#32
  | 121 => 0xB3BAADFB#32
  | 122 => 0x33B9919E#32
  | 123 => 0xB3B885EC#32
  | 124 => 0x33B78A8A#32
  | 125 => 0xB3B69F28#32
  | 126 => 0x33B5C377#32
  | 127 => 0xB3B4F732#32
  | _ => 0#32

noncomputable abbrev lit0t0_27 (i : Nat) : BitVec 32 := match i % 128 with
  | 0 => 0x33B43A15#32
  | 1 => 0xB3B38BE5#32
  | 2 => 0x33B2EC6A#32
  | 3 => 0xB3B25B72#32
  | 4 => 0x33B1D8CF#32
  | 5 => 0xB3B16459#32
  | 6 => 0x33B0FDEA#32
  | 7 => 0xB3B0A563#32
  | 8 => 0x33B05AA9#32
  | 9 => 0xB3B01DA5#32
  | 10 => 0x33AFEE43#32
  | 11 => 0xB3AFCC75#32
  | 12 => 0x33AFB831#32
  | 13 => 0xB3AFB170#32
  | 14 => 0x33AFB831#32
  | 15 => 0xB3AFCC75#32
  | 16 => 0x33AFEE43#32
  | 17 => 0xB3B01DA5#32
  | 18 => 0x33B05AA9#32
  | 19 => 0xB3B0A563#32
  | 20 => 0x33B0FDEA#32
  | 21 => 0xB3B16459#32
  | 22 => 0x33B1D8CF#32
  | 23 => 0xB3B25B72#32
  | 24 => 0x33B2EC6A#32
  | 25 => 0xB3B38BE5#32
  | 26 => 0x33B43A15#32
  | 27 => 0xB3B4F732#32
  | 28 => 0x33B5C377#32
  | 29 => 0xB3B69F28#32
  | 30 => 0x33B78A8A#32
  | 31 => 0xB3B885EC#32
  | 32 => 0x33B9919E#32
  | 33 => 0xB3BAADFB#32
  | 34 => 0x33BBDB61#32
  | 35 => 0xB3BD1A36#32
  | 36 => 0x33BE6AE7#32
  | 37 => 0xB3BFCDE6#32
  | 38 => 0x33C143B0#32
  | 39 => 0xB3C2CCC7#32
  | 40 => 0x33C469B8#32
  | 41 => 0xB3C61B15#32
  | 42 => 0x33C7E17D#32
  | 43 => 0xB3C9BD97#32
  | 44 => 0x33CBB015#32
  | 45 => 0xB3CDB9B1#32
  | 46 => 0x33CFDB34#32
  | 47 => 0xB3D21572#32
  | 48 => 0x33D4694B#32
  | 49 => 0xB3D6D7AE#32
  | 50 => 0x33D96196#32
  | 51 => 0xB3DC0810#32
  | 52 => 0x33DECC38#32
  | 53 => 0xB3E1AF3D#32
  | 54 => 0x33E4B25D#32
  | 55 => 0xB3E7D6EF#32
  | 56 => 0x33EB1E5A#32
  | 57 => 0xB3EE8A1F#32
  | 58 => 0x33F21BD6#32
  | 59 => 0xB3F5D532#32
  | 60 => 0x33F9B800#32
  | 61 => 0xB3FDC62E#32
  | 62 => 0x340100E3#32
  | 63 => 0xB403367C#32
  | 64 => 0x3405850C#32
  | 65 => 0xB407EDD1#32
  | 66 => 0x340A721F#32
  | 67 => 0xB40D1360#32
  | 68 => 0x340FD31A#32
  | 69 => 0xB412B2ED#32
  | 70 => 0x3415B495#32
  | 71 => 0xB418D9F0#32
  | 72 => 0x341C2500#32
  | 73 => 0xB41F97EA#32
  | 74 => 0x342334FF#32
  | 75 => 0xB426FEBD#32
  | 76 => 0x342AF7D2#32
  | 77 => 0xB42F2322#32
  | 78 => 0x343383CC#32
  | 79 => 0xB4381D32#32
  | 80 => 0x343CF2FA#32
  | 81 => 0xB4420919#32
  | 82 => 0x344763DA#32
  | 83 => 0xB44D07E6#32
  | 84 => 0x3452FA51#32
  | 85 => 0xB45940A1#32
  | 86 => 0x345FE0DA#32
  | 87 => 0xB466E193#32
  | 88 => 0x346E49FF#32
  | 89 => 0xB4762200#32
  | 90 => 0x347E723F#32
  | 91 => 0xB483A221#32
  | 92 => 0x34885142#32
  | 93 => 0xB48D4C4D#32
  | 94 => 0x349299A5#32
  | 95 => 0xB4984061#32
  | 96 => 0x349E485F#32
  | 97 => 0xB4A4BA5F#32
  | 98 => 0x34ABA023#32
  | 99 => 0xB4B30492#32
  | 100 => 0x34BAF3E5#32
  | 101 => 0xB4C37BD6#32
  | 102 => 0x34CCABDA#32
  | 103 => 0xB4D69568#32
  | 104 => 0x34E14C49#32
  | 105 => 0xB4ECE6F7#32
  | 106 => 0x34F97F13#32
  | 107 => 0xB50398F7#32
  | 108 => 0x350B1097#32
  | 109 => 0xB51339CD#32
  | 110 => 0x351C2B08#32
  | 111 => 0xB525FE56#32
  | 112 => 0x3530D21D#32
  | 113 => 0xB53CCA00#32
  | 114 => 0x354A0FF9#32
  | 115 => 0xB558D5BB#32
  | 116 => 0x35695670#32
  | 117 => 0xB57BD8F1#32
  | 118 => 0x3588594C#32
  | 119 => 0xB5942572#32
  | 120 => 0x35A19018#32
  | 121 => 0xB5B0E6EF#32
  | 122 => 0x35C28A3B#32
  | 123 => 0xB5D6F23A#32
  | 124 => 0x35EEB658#32
  | 125 => 0xB6054B76#32
  | 126 => 0x3615C529#32
  | 127 => 0xB6296767#32
  | _ => 0#32

noncomputable abbrev lit0t0_28 (i : Nat) : BitVec 32 := match i % 128 with
  | 0 => 0xB6296767#32
  | 1 => 0x3641014B#32
  | 2 => 0xB65DA20C#32
  | 3 => 0x368056F2#32
  | 4 => 0xB695FBC4#32
  | 5 => 0x36B0ED61#32
  | 6 => 0xB6D29E9B#32
  | 7 => 0x36FFBDB2#32
  | 8 => 0xB692EE32#32
  | 9 => 0x391EBB1A#32
  | 10 => 0x3B12D0DF#32
  | 11 => 0x3CA0086D#32
  | 12 => 0x3DBAD58B#32
  | 13 => 0x3E6BB748#32
  | 14 => 0x3EA069FE#32
  | 15 => 0x3E6BB748#32
  | 16 => 0x3DBAD58B#32
  | 17 => 0x3CA0086D#32
  | 18 => 0x3B12D0DF#32
  | 19 => 0x391EBB1A#32
  | 20 => 0xB692EE32#32
  | 21 => 0x36FFBDB2#32
  | 22 => 0xB6D29E9B#32
  | 23 => 0x36B0ED61#32
  | 24 => 0xB695FBC4#32
  | 25 => 0x368056F2#32
  | 26 => 0xB65DA20C#32
  | 27 => 0x3641014B#32
  | 28 => 0xB6296767#32
  | 29 => 0x3615C529#32
  | 30 => 0xB6054B76#32
  | 31 => 0x35EEB658#32
  | 32 => 0xB5D6F23A#32
  | 33 => 0x35C28A3B#32
  | 34 => 0xB5B0E6EF#32
  | 35 => 0x35A19018#32
  | 36 => 0xB5942572#32
  | 37 => 0x3588594C#32
  | 38 => 0xB57BD8F1#32
  | 39 => 0x35695670#32
  | 40 => 0xB558D5BB#32
  | 41 => 0x354A0FF9#32
  | 42 => 0xB53CCA00#32
  | 43 => 0x3530D21D#32
  | 44 => 0xB525FE56#32
  | 45 => 0x351C2B08#32
  | 46 => 0xB51339CD#32
  | 47 => 0x350B1097#32
  | 48 => 0xB50398F7#32
  | 49 => 0x34F97F13#32
  | 50 => 0xB4ECE6F7#32
  | 51 => 0x34E14C49#32
  | 52 => 0xB4D69568#32
  | 53 => 0x34CCABDA#32
  | 54 => 0xB4C37BD6#32
  | 55 => 0x34BAF3E5#32
  | 56 => 0xB4B30492#32
  | 57 => 0x34ABA023#32
  | 58 => 0xB4A4BA5F#32
  | 59 => 0x349E485F#32
  | 60 => 0xB4984061#32
  | 61 => 0x349299A5#32
  | 62 => 0xB48D4C4D#32
  | 63 => 0x34885143#32
  | 64 => 0xB483A221#32
  | 65 => 0x347E723F#32
  | 66 => 0xB4762200#32
  | 67 => 0x346E49FF#32
  | 68 => 0xB466E193#32
  | 69 => 0x345FE0DA#32
  | 70 => 0xB45940A1#32
  | 71 => 0x3452FA51#32
  | 72 => 0xB44D07E6#32
  | 73 => 0x344763DA#32
  | 74 => 0xB4420919#32
  | 75 => 0x343CF2FA#32
  | 76 => 0xB4381D32#32
  | 77 => 0x343383CC#32
  | 78 => 0xB42F2322#32
  | 79 => 0x342AF7D2#32
  | 80 => 0xB426FEBD#32
  | 81 => 0x342334FF#32
  | 82 => 0xB41F97EA#32
  | 83 => 0x341C2500#32
  | 84 => 0xB418D9F0#32
  | 85 => 0x3415B495#32
  | 86 => 0xB412B2ED#32
  | 87 => 0x340FD31A#32
  | 88 => 0xB40D1360#32
  | 89 => 0x340A721F#32
  | 90 => 0xB407EDD1#32
  | 91 => 0x3405850C#32
  | 92 => 0xB403367C#32
  | 93 => 0x340100E3#32
  | 94 => 0xB3FDC62E#32
  | 95 => 0x33F9B800#32
  | 96 => 0xB3F5D532#32
  | 97 => 0x33F21BD6#32
  | 98 => 0xB3EE8A1F#32
  | 99 => 0x33EB1E5A#32
  | 100 => 0xB3E7D6EF#32
  | 101 => 0x33E4B25D#32
  | 102 => 0xB3E1AF3D#32
  | 103 => 0x33DECC38#32
  | 104 => 0xB3DC0810#32
  | 105 => 0x33D96196#32
  | 106 => 0xB3D6D7AE#32
  | 107 => 0x33D4694B#32
  | 108 => 0xB3D21572#32
  | 109 => 0x33CFDB34#32
  | 110 => 0xB3CDB9B1#32
  | 111 => 0x33CBB015#32
  | 112 => 0xB3C9BD97#32
  | 113 => 0x33C7E17D#32
  | 114 => 0xB3C61B15#32
  | 115 => 0x33C469B8#32
  | 116 => 0xB3C2CCC7#32
  | 117 => 0x33C143B0#32
  | 118 => 0xB3BFCDE6#32
  | 119 => 0x33BE6AE7#32
  | 120 => 0xB3BD1A36#32
  | 121 => 0x33BBDB61#32
  | 122 => 0xB3BAADFB#32
  | 123 => 0x33B9919E#32
  | 124 => 0xB3B885EC#32
  | 125 => 0x33B78A8A#32
  | 126 => 0xB3B69F28#32
  | 127 => 0x33B5C377#32
  | _ => 0#32

noncomputable abbrev lit0t0_29 (i : Nat) : BitVec 32 := match i % 128 with
  | 0 => 0xB3B4F732#32
  | 1 => 0x33B43A15#32
  | 2 => 0xB3B38BE5#32
  | 3 => 0x33B2EC6A#32
  | 4 => 0xB3B25B72#32
  | 5 => 0x33B1D8CF#32
  | 6 => 0xB3B16459#32
  | 7 => 0x33B0FDEA#32
  | 8 => 0xB3B0A563#32
  | 9 => 0x33B05AA9#32
  | 10 => 0xB3B01DA5#32
  | 11 => 0x33AFEE43#32
  | 12 => 0xB3AFCC75#32
  | 13 => 0x33AFB831#32
  | 14 => 0xB3AFB170#32
  | 15 => 0x33AFB831#32
  | 16 => 0xB3AFCC75#32
  | 17 => 0x33AFEE43#32
  | 18 => 0xB3B01DA5#32
  | 19 => 0x33B05AA9#32
  | 20 => 0xB3B0A563#32
  | 21 => 0x33B0FDEA#32
  | 22 => 0xB3B16459#32
  | 23 => 0x33B1D8CF#32
  | 24 => 0xB3B25B72#32
  | 25 => 0x33B2EC6A#32
  | 26 => 0xB3B38BE5#32
  | 27 => 0x33B43A15#32
  | 28 => 0xB3B4F732#32
  | 29 => 0x33B5C377#32
  | 30 => 0xB3B69F28#32
  | 31 => 0x33B78A8A#32
  | 32 => 0xB3B885EC#32
  | 33 => 0x33B9919E#32
  | 34 => 0xB3BAADFB#32
  | 35 => 0x33BBDB61#32
  | 36 => 0xB3BD1A36#32
  | 37 => 0x33BE6AE7#32
  | 38 => 0xB3BFCDE6#32
  | 39 => 0x33C143B0#32
  | 40 => 0xB3C2CCC7#32
  | 41 => 0x33C469B8#32
  | 42 => 0xB3C61B15#32
  | 43 => 0x33C7E17D#32
  | 44 => 0xB3C9BD97#32
  | 45 => 0x33CBB015#32
  | 46 => 0xB3CDB9B1#32
  | 47 => 0x33CFDB34#32
  | 48 => 0xB3D21572#32
  | 49 => 0x33D4694B#32
  | 50 => 0xB3D6D7AE#32
  | 51 => 0x33D96196#32
  | 52 => 0xB3DC0810#32
  | 53 => 0x33DECC38#32
  | 54 => 0xB3E1AF3D#32
  | 55 => 0x33E4B25D#32
  | 56 => 0xB3E7D6EF#32
  | 57 => 0x33EB1E5A#32
  | 58 => 0xB3EE8A1F#32
  | 59 => 0x33F21BD6#32
  | 60 => 0xB3F5D532#32
  | 61 => 0x33F9B800#32
  | 62 => 0xB3FDC62E#32
  | 63 => 0x340100E3#32
  | 64 => 0xB403367C#32
  | 65 => 0x3405850C#32
  | 66 => 0xB407EDD1#32
  | 67 => 0x340A721F#32
  | 68 => 0xB40D1360#32
  | 69 => 0x340FD31A#32
  | 70 => 0xB412B2ED#32
  | 71 => 0x3415B495#32
  | 72 => 0xB418D9F0#32
  | 73 => 0x341C2500#32
  | 74 => 0xB41F97EA#32
  | 75 => 0x342334FF#32
  | 76 => 0xB426FEBD#32
  | 77 => 0x342AF7D2#32
  | 78 => 0xB42F2322#32
  | 79 => 0x343383CC#32
  | 80 => 0xB4381D32#32
  | 81 => 0x343CF2FA#32
  | 82 => 0xB4420919#32
  | 83 => 0x344763DA#32
  | 84 => 0xB44D07E6#32
  | 85 => 0x3452FA51#32
  | 86 => 0xB45940A1#32
  | 87 => 0x345FE0DA#32
  | 88 => 0xB466E193#32
  | 89 => 0x346E49FF#32
  | 90 => 0xB4762200#32
  | 91 => 0x347E723F#32
  | 92 => 0xB483A221#32
  | 93 => 0x34885142#32
  | 94 => 0xB48D4C4D#32
  | 95 => 0x349299A5#32
  | 96 => 0xB4984061#32
  | 97 => 0x349E485F#32
  | 98 => 0xB4A4BA5F#32
  | 99 => 0x34ABA023#32
  | 100 => 0xB4B30492#32
  | 101 => 0x34BAF3E5#32
  | 102 => 0xB4C37BD6#32
  | 103 => 0x34CCABDA#32
  | 104 => 0xB4D69568#32
  | 105 => 0x34E14C49#32
  | 106 => 0xB4ECE6F7#32
  | 107 => 0x34F97F13#32
  | 108 => 0xB50398F7#32
  | 109 => 0x350B1097#32
  | 110 => 0xB51339CD#32
  | 111 => 0x351C2B08#32
  | 112 => 0xB525FE56#32
  | 113 => 0x3530D21D#32
  | 114 => 0xB53CCA00#32
  | 115 => 0x354A0FF9#32
  | 116 => 0xB558D5BB#32
  | 117 => 0x35695670#32
  | 118 => 0xB57BD8F1#32
  | 119 => 0x3588594C#32
  | 120 => 0xB5942572#32
  | 121 => 0x35A19018#32
  | 122 => 0xB5B0E6EF#32
  | 123 => 0x35C28A3B#32
  | 124 => 0xB5D6F23A#32
  | 125 => 0x35EEB658#32
  | 126 => 0xB6054B76#32
  | 127 => 0x3615C529#32
  | _ => 0#32

noncomputable abbrev lit0t0_30 (i : Nat) : BitVec 32 := match i % 128 with
  | 0 => 0x3615C529#32
  | 1 => 0xB6296767#32
  | 2 => 0x3641014B#32
  | 3 => 0xB65DA20C#32
  | 4 => 0x368056F2#32
  | 5 => 0xB695FBC4#32
  | 6 => 0x36B0ED61#32
  | 7 => 0xB6D29E9B#32
  | 8 => 0x36FFBDB2#32
  | 9 => 0xB692EE32#32
  | 10 => 0x391EBB1A#32
  | 11 => 0x3B12D0DF#32
  | 12 => 0x3CA0086D#32
  | 13 => 0x3DBAD58B#32
  | 14 => 0x3E6BB748#32
  | 15 => 0x3EA069FE#32
  | 16 => 0x3E6BB748#32
  | 17 => 0x3DBAD58B#32
  | 18 => 0x3CA0086D#32
  | 19 => 0x3B12D0DF#32
  | 20 => 0x391EBB1A#32
  | 21 => 0xB692EE32#32
  | 22 => 0x36FFBDB2#32
  | 23 => 0xB6D29E9B#32
  | 24 => 0x36B0ED61#32
  | 25 => 0xB695FBC4#32
  | 26 => 0x368056F2#32
  | 27 => 0xB65DA20C#32
  | 28 => 0x3641014B#32
  | 29 => 0xB6296767#32
  | 30 => 0x3615C529#32
  | 31 => 0xB6054B76#32
  | 32 => 0x35EEB658#32
  | 33 => 0xB5D6F23A#32
  | 34 => 0x35C28A3B#32
  | 35 => 0xB5B0E6EF#32
  | 36 => 0x35A19018#32
  | 37 => 0xB5942572#32
  | 38 => 0x3588594C#32
  | 39 => 0xB57BD8F1#32
  | 40 => 0x35695670#32
  | 41 => 0xB558D5BB#32
  | 42 => 0x354A0FF9#32
  | 43 => 0xB53CCA00#32
  | 44 => 0x3530D21D#32
  | 45 => 0xB525FE56#32
  | 46 => 0x351C2B08#32
  | 47 => 0xB51339CD#32
  | 48 => 0x350B1097#32
  | 49 => 0xB50398F7#32
  | 50 => 0x34F97F13#32
  | 51 => 0xB4ECE6F7#32
  | 52 => 0x34E14C49#32
  | 53 => 0xB4D69568#32
  | 54 => 0x34CCABDA#32
  | 55 => 0xB4C37BD6#32
  | 56 => 0x34BAF3E5#32
  | 57 => 0xB4B30492#32
  | 58 => 0x34ABA023#32
  | 59 => 0xB4A4BA5F#32
  | 60 => 0x349E485F#32
  | 61 => 0xB4984061#32
  | 62 => 0x349299A5#32
  | 63 => 0xB48D4C4D#32
  | 64 => 0x34885143#32
  | 65 => 0xB483A221#32
  | 66 => 0x347E723F#32
  | 67 => 0xB4762200#32
  | 68 => 0x346E49FF#32
  | 69 => 0xB466E193#32
  | 70 => 0x345FE0DA#32
  | 71 => 0xB45940A1#32
  | 72 => 0x3452FA51#32
  | 73 => 0xB44D07E6#32
  | 74 => 0x344763DA#32
  | 75 => 0xB4420919#32
  | 76 => 0x343CF2FA#32
  | 77 => 0xB4381D32#32
  | 78 => 0x343383CC#32
  | 79 => 0xB42F2322#32
  | 80 => 0x342AF7D2#32
  | 81 => 0xB426FEBD#32
  | 82 => 0x342334FF#32
  | 83 => 0xB41F97EA#32
  | 84 => 0x341C2500#32
  | 85 => 0xB418D9F0#32
  | 86 => 0x3415B495#32
  | 87 => 0xB412B2ED#32
  | 88 => 0x340FD31A#32
  | 89 => 0xB40D1360#32
  | 90 => 0x340A721F#32
  | 91 => 0xB407EDD1#32
  | 92 => 0x3405850C#32
  | 93 => 0xB403367C#32
  | 94 => 0x340100E3#32
  | 95 => 0xB3FDC62E#32
  | 96 => 0x33F9B800#32
  | 97 => 0xB3F5D532#32
  | 98 => 0x33F21BD6#32
  | 99 => 0xB3EE8A1F#32
  | 100 => 0x33EB1E5A#32
  | 101 => 0xB3E7D6EF#32
  | 102 => 0x33E4B25D#32
  | 103 => 0xB3E1AF3D#32
  | 104 => 0x33DECC38#32
  | 105 => 0xB3DC0810#32
  | 106 => 0x33D96196#32
  | 107 => 0xB3D6D7AE#32
  | 108 => 0x33D4694B#32
  | 109 => 0xB3D21572#32
  | 110 => 0x33CFDB34#32
  | 111 => 0xB3CDB9B1#32
  | 112 => 0x33CBB015#32
  | 113 => 0xB3C9BD97#32
  | 114 => 0x33C7E17D#32
  | 115 => 0xB3C61B15#32
  | 116 => 0x33C469B8#32
  | 117 => 0xB3C2CCC7#32
  | 118 => 0x33C143B0#32
  | 119 => 0xB3BFCDE6#32
  | 120 => 0x33BE6AE7#32
  | 121 => 0xB3BD1A36#32
  | 122 => 0x33BBDB61#32
  | 123 => 0xB3BAADFB#32
  | 124 => 0x33B9919E#32
  | 125 => 0xB3B885EC#32
  | 126 => 0x33B78A8A#32
  | 127 => 0xB3B69F28#32
  | _ => 0#32

noncomputable abbrev lit0t0_31 (i : Nat) : BitVec 32 := match i % 128 with
  | 0 => 0x33B5C377#32
  | 1 => 0xB3B4F732#32
  | 2 => 0x33B43A15#32
  | 3 => 0xB3B38BE5#32
  | 4 => 0x33B2EC6A#32
  | 5 => 0xB3B25B72#32
  | 6 => 0x33B1D8CF#32
  | 7 => 0xB3B16459#32
  | 8 => 0x33B0FDEA#32
  | 9 => 0xB3B0A563#32
  | 10 => 0x33B05AA9#32
  | 11 => 0xB3B01DA5#32
  | 12 => 0x33AFEE43#32
  | 13 => 0xB3AFCC75#32
  | 14 => 0x33AFB831#32
  | 15 => 0xB3AFB170#32
  | 16 => 0x33AFB831#32
  | 17 => 0xB3AFCC75#32
  | 18 => 0x33AFEE43#32
  | 19 => 0xB3B01DA5#32
  | 20 => 0x33B05AA9#32
  | 21 => 0xB3B0A563#32
  | 22 => 0x33B0FDEA#32
  | 23 => 0xB3B16459#32
  | 24 => 0x33B1D8CF#32
  | 25 => 0xB3B25B72#32
  | 26 => 0x33B2EC6A#32
  | 27 => 0xB3B38BE5#32
  | 28 => 0x33B43A15#32
  | 29 => 0xB3B4F732#32
  | 30 => 0x33B5C377#32
  | 31 => 0xB3B69F28#32
  | 32 => 0x33B78A8A#32
  | 33 => 0xB3B885EC#32
  | 34 => 0x33B9919E#32
  | 35 => 0xB3BAADFB#32
  | 36 => 0x33BBDB61#32
  | 37 => 0xB3BD1A36#32
  | 38 => 0x33BE6AE7#32
  | 39 => 0xB3BFCDE6#32
  | 40 => 0x33C143B0#32
  | 41 => 0xB3C2CCC7#32
  | 42 => 0x33C469B8#32
  | 43 => 0xB3C61B15#32
  | 44 => 0x33C7E17D#32
  | 45 => 0xB3C9BD97#32
  | 46 => 0x33CBB015#32
  | 47 => 0xB3CDB9B1#32
  | 48 => 0x33CFDB34#32
  | 49 => 0xB3D21572#32
  | 50 => 0x33D4694B#32
  | 51 => 0xB3D6D7AE#32
  | 52 => 0x33D96196#32
  | 53 => 0xB3DC0810#32
  | 54 => 0x33DECC38#32
  | 55 => 0xB3E1AF3D#32
  | 56 => 0x33E4B25D#32
  | 57 => 0xB3E7D6EF#32
  | 58 => 0x33EB1E5A#32
  | 59 => 0xB3EE8A1F#32
  | 60 => 0x33F21BD6#32
  | 61 => 0xB3F5D532#32
  | 62 => 0x33F9B800#32
  | 63 => 0xB3FDC62E#32
  | 64 => 0x340100E3#32
  | 65 => 0xB403367C#32
  | 66 => 0x3405850C#32
  | 67 => 0xB407EDD1#32
  | 68 => 0x340A721F#32
  | 69 => 0xB40D1360#32
  | 70 => 0x340FD31A#32
  | 71 => 0xB412B2ED#32
  | 72 => 0x3415B495#32
  | 73 => 0xB418D9F0#32
  | 74 => 0x341C2500#32
  | 75 => 0xB41F97EA#32
  | 76 => 0x342334FF#32
  | 77 => 0xB426FEBD#32
  | 78 => 0x342AF7D2#32
  | 79 => 0xB42F2322#32
  | 80 => 0x343383CC#32
  | 81 => 0xB4381D32#32
  | 82 => 0x343CF2FA#32
  | 83 => 0xB4420919#32
  | 84 => 0x344763DA#32
  | 85 => 0xB44D07E6#32
  | 86 => 0x3452FA51#32
  | 87 => 0xB45940A1#32
  | 88 => 0x345FE0DA#32
  | 89 => 0xB466E193#32
  | 90 => 0x346E49FF#32
  | 91 => 0xB4762200#32
  | 92 => 0x347E723F#32
  | 93 => 0xB483A221#32
  | 94 => 0x34885142#32
  | 95 => 0xB48D4C4D#32
  | 96 => 0x349299A5#32
  | 97 => 0xB4984061#32
  | 98 => 0x349E485F#32
  | 99 => 0xB4A4BA5F#32
  | 100 => 0x34ABA023#32
  | 101 => 0xB4B30492#32
  | 102 => 0x34BAF3E5#32
  | 103 => 0xB4C37BD6#32
  | 104 => 0x34CCABDA#32
  | 105 => 0xB4D69568#32
  | 106 => 0x34E14C49#32
  | 107 => 0xB4ECE6F7#32
  | 108 => 0x34F97F13#32
  | 109 => 0xB50398F7#32
  | 110 => 0x350B1097#32
  | 111 => 0xB51339CD#32
  | 112 => 0x351C2B08#32
  | 113 => 0xB525FE56#32
  | 114 => 0x3530D21D#32
  | 115 => 0xB53CCA00#32
  | 116 => 0x354A0FF9#32
  | 117 => 0xB558D5BB#32
  | 118 => 0x35695670#32
  | 119 => 0xB57BD8F1#32
  | 120 => 0x3588594C#32
  | 121 => 0xB5942572#32
  | 122 => 0x35A19018#32
  | 123 => 0xB5B0E6EF#32
  | 124 => 0x35C28A3B#32
  | 125 => 0xB5D6F23A#32
  | 126 => 0x35EEB658#32
  | 127 => 0xB6054B76#32
  | _ => 0#32

noncomputable abbrev lit0t0_32 (i : Nat) : BitVec 32 := match i % 128 with
  | 0 => 0xB6054B76#32
  | 1 => 0x3615C529#32
  | 2 => 0xB6296767#32
  | 3 => 0x3641014B#32
  | 4 => 0xB65DA20C#32
  | 5 => 0x368056F2#32
  | 6 => 0xB695FBC4#32
  | 7 => 0x36B0ED61#32
  | 8 => 0xB6D29E9B#32
  | 9 => 0x36FFBDB2#32
  | 10 => 0xB692EE32#32
  | 11 => 0x391EBB1A#32
  | 12 => 0x3B12D0DF#32
  | 13 => 0x3CA0086D#32
  | 14 => 0x3DBAD58B#32
  | 15 => 0x3E6BB748#32
  | 16 => 0x3EA069FE#32
  | 17 => 0x3E6BB748#32
  | 18 => 0x3DBAD58B#32
  | 19 => 0x3CA0086D#32
  | 20 => 0x3B12D0DF#32
  | 21 => 0x391EBB1A#32
  | 22 => 0xB692EE32#32
  | 23 => 0x36FFBDB2#32
  | 24 => 0xB6D29E9B#32
  | 25 => 0x36B0ED61#32
  | 26 => 0xB695FBC4#32
  | 27 => 0x368056F2#32
  | 28 => 0xB65DA20C#32
  | 29 => 0x3641014B#32
  | 30 => 0xB6296767#32
  | 31 => 0x3615C529#32
  | 32 => 0xB6054B76#32
  | 33 => 0x35EEB658#32
  | 34 => 0xB5D6F23A#32
  | 35 => 0x35C28A3B#32
  | 36 => 0xB5B0E6EF#32
  | 37 => 0x35A19018#32
  | 38 => 0xB5942572#32
  | 39 => 0x3588594C#32
  | 40 => 0xB57BD8F1#32
  | 41 => 0x35695670#32
  | 42 => 0xB558D5BB#32
  | 43 => 0x354A0FF9#32
  | 44 => 0xB53CCA00#32
  | 45 => 0x3530D21D#32
  | 46 => 0xB525FE56#32
  | 47 => 0x351C2B08#32
  | 48 => 0xB51339CD#32
  | 49 => 0x350B1097#32
  | 50 => 0xB50398F7#32
  | 51 => 0x34F97F13#32
  | 52 => 0xB4ECE6F7#32
  | 53 => 0x34E14C49#32
  | 54 => 0xB4D69568#32
  | 55 => 0x34CCABDA#32
  | 56 => 0xB4C37BD6#32
  | 57 => 0x34BAF3E5#32
  | 58 => 0xB4B30492#32
  | 59 => 0x34ABA023#32
  | 60 => 0xB4A4BA5F#32
  | 61 => 0x349E485F#32
  | 62 => 0xB4984061#32
  | 63 => 0x349299A5#32
  | 64 => 0xB48D4C4D#32
  | 65 => 0x34885143#32
  | 66 => 0xB483A221#32
  | 67 => 0x347E723F#32
  | 68 => 0xB4762200#32
  | 69 => 0x346E49FF#32
  | 70 => 0xB466E193#32
  | 71 => 0x345FE0DA#32
  | 72 => 0xB45940A1#32
  | 73 => 0x3452FA51#32
  | 74 => 0xB44D07E6#32
  | 75 => 0x344763DA#32
  | 76 => 0xB4420919#32
  | 77 => 0x343CF2FA#32
  | 78 => 0xB4381D32#32
  | 79 => 0x343383CC#32
  | 80 => 0xB42F2322#32
  | 81 => 0x342AF7D2#32
  | 82 => 0xB426FEBD#32
  | 83 => 0x342334FF#32
  | 84 => 0xB41F97EA#32
  | 85 => 0x341C2500#32
  | 86 => 0xB418D9F0#32
  | 87 => 0x3415B495#32
  | 88 => 0xB412B2ED#32
  | 89 => 0x340FD31A#32
  | 90 => 0xB40D1360#32
  | 91 => 0x340A721F#32
  | 92 => 0xB407EDD1#32
  | 93 => 0x3405850C#32
  | 94 => 0xB403367C#32
  | 95 => 0x340100E3#32
  | 96 => 0xB3FDC62E#32
  | 97 => 0x33F9B800#32
  | 98 => 0xB3F5D532#32
  | 99 => 0x33F21BD6#32
  | 100 => 0xB3EE8A1F#32
  | 101 => 0x33EB1E5A#32
  | 102 => 0xB3E7D6EF#32
  | 103 => 0x33E4B25D#32
  | 104 => 0xB3E1AF3D#32
  | 105 => 0x33DECC38#32
  | 106 => 0xB3DC0810#32
  | 107 => 0x33D96196#32
  | 108 => 0xB3D6D7AE#32
  | 109 => 0x33D4694B#32
  | 110 => 0xB3D21572#32
  | 111 => 0x33CFDB34#32
  | 112 => 0xB3CDB9B1#32
  | 113 => 0x33CBB015#32
  | 114 => 0xB3C9BD97#32
  | 115 => 0x33C7E17D#32
  | 116 => 0xB3C61B15#32
  | 117 => 0x33C469B8#32
  | 118 => 0xB3C2CCC7#32
  | 119 => 0x33C143B0#32
  | 120 => 0xB3BFCDE6#32
  | 121 => 0x33BE6AE7#32
  | 122 => 0xB3BD1A36#32
  | 123 => 0x33BBDB61#32
  | 124 => 0xB3BAADFB#32
  | 125 => 0x33B9919E#32
  | 126 => 0xB3B885EC#32
  | 127 => 0x33B78A8A#32
  | _ => 0#32

noncomputable abbrev lit0t0_33 (i : Nat) : BitVec 32 := match i % 128 with
  | 0 => 0xB3B69F28#32
  | 1 => 0x33B5C377#32
  | 2 => 0xB3B4F732#32
  | 3 => 0x33B43A15#32
  | 4 => 0xB3B38BE5#32
  | 5 => 0x33B2EC6A#32
  | 6 => 0xB3B25B72#32
  | 7 => 0x33B1D8CF#32
  | 8 => 0xB3B16459#32
  | 9 => 0x33B0FDEA#32
  | 10 => 0xB3B0A563#32
  | 11 => 0x33B05AA9#32
  | 12 => 0xB3B01DA5#32
  | 13 => 0x33AFEE43#32
  | 14 => 0xB3AFCC75#32
  | 15 => 0x33AFB831#32
  | 16 => 0xB3AFB170#32
  | 17 => 0x33AFB831#32
  | 18 => 0xB3AFCC75#32
  | 19 => 0x33AFEE43#32
  | 20 => 0xB3B01DA5#32
  | 21 => 0x33B05AA9#32
  | 22 => 0xB3B0A563#32
  | 23 => 0x33B0FDEA#32
  | 24 => 0xB3B16459#32
  | 25 => 0x33B1D8CF#32
  | 26 => 0xB3B25B72#32
  | 27 => 0x33B2EC6A#32
  | 28 => 0xB3B38BE5#32
  | 29 => 0x33B43A15#32
  | 30 => 0xB3B4F732#32
  | 31 => 0x33B5C377#32
  | 32 => 0xB3B69F28#32
  | 33 => 0x33B78A8A#32
  | 34 => 0xB3B885EC#32
  | 35 => 0x33B9919E#32
  | 36 => 0xB3BAADFB#32
  | 37 => 0x33BBDB61#32
  | 38 => 0xB3BD1A36#32
  | 39 => 0x33BE6AE7#32
  | 40 => 0xB3BFCDE6#32
  | 41 => 0x33C143B0#32
  | 42 => 0xB3C2CCC7#32
  | 43 => 0x33C469B8#32
  | 44 => 0xB3C61B15#32
  | 45 => 0x33C7E17D#32
  | 46 => 0xB3C9BD97#32
  | 47 => 0x33CBB015#32
  | 48 => 0xB3CDB9B1#32
  | 49 => 0x33CFDB34#32
  | 50 => 0xB3D21572#32
  | 51 => 0x33D4694B#32
  | 52 => 0xB3D6D7AE#32
  | 53 => 0x33D96196#32
  | 54 => 0xB3DC0810#32
  | 55 => 0x33DECC38#32
  | 56 => 0xB3E1AF3D#32
  | 57 => 0x33E4B25D#32
  | 58 => 0xB3E7D6EF#32
  | 59 => 0x33EB1E5A#32
  | 60 => 0xB3EE8A1F#32
  | 61 => 0x33F21BD6#32
  | 62 => 0xB3F5D532#32
  | 63 => 0x33F9B800#32
  | 64 => 0xB3FDC62E#32
  | 65 => 0x340100E3#32
  | 66 => 0xB403367C#32
  | 67 => 0x3405850C#32
  | 68 => 0xB407EDD1#32
  | 69 => 0x340A721F#32
  | 70 => 0xB40D1360#32
  | 71 => 0x340FD31A#32
  | 72 => 0xB412B2ED#32
  | 73 => 0x3415B495#32
  | 74 => 0xB418D9F0#32
  | 75 => 0x341C2500#32
  | 76 => 0xB41F97EA#32
  | 77 => 0x342334FF#32
  | 78 => 0xB426FEBD#32
  | 79 => 0x342AF7D2#32
  | 80 => 0xB42F2322#32
  | 81 => 0x343383CC#32
  | 82 => 0xB4381D32#32
  | 83 => 0x343CF2FA#32
  | 84 => 0xB4420919#32
  | 85 => 0x344763DA#32
  | 86 => 0xB44D07E6#32
  | 87 => 0x3452FA51#32
  | 88 => 0xB45940A1#32
  | 89 => 0x345FE0DA#32
  | 90 => 0xB466E193#32
  | 91 => 0x346E49FF#32
  | 92 => 0xB4762200#32
  | 93 => 0x347E723F#32
  | 94 => 0xB483A221#32
  | 95 => 0x34885143#32
  | 96 => 0xB48D4C4D#32
  | 97 => 0x349299A5#32
  | 98 => 0xB4984061#32
  | 99 => 0x349E485F#32
  | 100 => 0xB4A4BA5F#32
  | 101 => 0x34ABA023#32
  | 102 => 0xB4B30492#32
  | 103 => 0x34BAF3E5#32
  | 104 => 0xB4C37BD6#32
  | 105 => 0x34CCABDA#32
  | 106 => 0xB4D69568#32
  | 107 => 0x34E14C49#32
  | 108 => 0xB4ECE6F7#32
  | 109 => 0x34F97F13#32
  | 110 => 0xB50398F7#32
  | 111 => 0x350B1097#32
  | 112 => 0xB51339CD#32
  | 113 => 0x351C2B08#32
  | 114 => 0xB525FE56#32
  | 115 => 0x3530D21D#32
  | 116 => 0xB53CCA00#32
  | 117 => 0x354A0FF9#32
  | 118 => 0xB558D5BB#32
  | 119 => 0x35695670#32
  | 120 => 0xB57BD8F1#32
  | 121 => 0x3588594C#32
  | 122 => 0xB5942572#32
  | 123 => 0x35A19018#32
  | 124 => 0xB5B0E6EF#32
  | 125 => 0x35C28A3B#32
  | 126 => 0xB5D6F23A#32
  | 127 => 0x35EEB658#32
  | _ => 0#32

noncomputable abbrev lit0t0_34 (i : Nat) : BitVec 32 := match i % 128 with
  | 0 => 0x35EEB658#32
  | 1 => 0xB6054B76#32
  | 2 => 0x3615C529#32
  | 3 => 0xB6296767#32
  | 4 => 0x3641014B#32
  | 5 => 0xB65DA20C#32
  | 6 => 0x368056F2#32
  | 7 => 0xB695FBC4#32
  | 8 => 0x36B0ED61#32
  | 9 => 0xB6D29E9B#32
  | 10 => 0x36FFBDB2#32
  | 11 => 0xB692EE32#32
  | 12 => 0x391EBB1A#32
  | 13 => 0x3B12D0DF#32
  | 14 => 0x3CA0086D#32
  | 15 => 0x3DBAD58B#32
  | 16 => 0x3E6BB748#32
  | 17 => 0x3EA069FE#32
  | 18 => 0x3E6BB748#32
  | 19 => 0x3DBAD58B#32
  | 20 => 0x3CA0086D#32
  | 21 => 0x3B12D0DF#32
  | 22 => 0x391EBB1A#32
  | 23 => 0xB692EE32#32
  | 24 => 0x36FFBDB2#32
  | 25 => 0xB6D29E9B#32
  | 26 => 0x36B0ED61#32
  | 27 => 0xB695FBC4#32
  | 28 => 0x368056F2#32
  | 29 => 0xB65DA20C#32
  | 30 => 0x3641014B#32
  | 31 => 0xB6296767#32
  | 32 => 0x3615C529#32
  | 33 => 0xB6054B76#32
  | 34 => 0x35EEB658#32
  | 35 => 0xB5D6F23A#32
  | 36 => 0x35C28A3B#32
  | 37 => 0xB5B0E6EF#32
  | 38 => 0x35A19018#32
  | 39 => 0xB5942572#32
  | 40 => 0x3588594C#32
  | 41 => 0xB57BD8F1#32
  | 42 => 0x35695670#32
  | 43 => 0xB558D5BB#32
  | 44 => 0x354A0FF9#32
  | 45 => 0xB53CCA00#32
  | 46 => 0x3530D21D#32
  | 47 => 0xB525FE56#32
  | 48 => 0x351C2B08#32
  | 49 => 0xB51339CD#32
  | 50 => 0x350B1097#32
  | 51 => 0xB50398F7#32
  | 52 => 0x34F97F13#32
  | 53 => 0xB4ECE6F7#32
  | 54 => 0x34E14C49#32
  | 55 => 0xB4D69568#32
  | 56 => 0x34CCABDA#32
  | 57 => 0xB4C37BD6#32
  | 58 => 0x34BAF3E5#32
  | 59 => 0xB4B30492#32
  | 60 => 0x34ABA023#32
  | 61 => 0xB4A4BA5F#32
  | 62 => 0x349E485F#32
  | 63 => 0xB4984061#32
  | 64 => 0x349299A5#32
  | 65 => 0xB48D4C4D#32
  | 66 => 0x34885143#32
  | 67 => 0xB483A221#32
  | 68 => 0x347E723F#32
  | 69 => 0xB4762200#32
  | 70 => 0x346E49FF#32
  | 71 => 0xB466E193#32
  | 72 => 0x345FE0DA#32
  | 73 => 0xB45940A1#32
  | 74 => 0x3452FA51#32
  | 75 => 0xB44D07E6#32
  | 76 => 0x344763DA#32
  | 77 => 0xB4420919#32
  | 78 => 0x343CF2FA#32
  | 79 => 0xB4381D32#32
  | 80 => 0x343383CC#32
  | 81 => 0xB42F2322#32
  | 82 => 0x342AF7D2#32
  | 83 => 0xB426FEBD#32
  | 84 => 0x342334FF#32
  | 85 => 0xB41F97EA#32
  | 86 => 0x341C2500#32
  | 87 => 0xB418D9F0#32
  | 88 => 0x3415B495#32
  | 89 => 0xB412B2ED#32
  | 90 => 0x340FD31A#32
  | 91 => 0xB40D1360#32
  | 92 => 0x340A721F#32
  | 93 => 0xB407EDD1#32
  | 94 => 0x3405850C#32
  | 95 => 0xB403367C#32
  | 96 => 0x340100E3#32
  | 97 => 0xB3FDC62E#32
  | 98 => 0x33F9B800#32
  | 99 => 0xB3F5D532#32
  | 100 => 0x33F21BD6#32
  | 101 => 0xB3EE8A1F#32
  | 102 => 0x33EB1E5A#32
  | 103 => 0xB3E7D6EF#32
  | 104 => 0x33E4B25D#32
  | 105 => 0xB3E1AF3D#32
  | 106 => 0x33DECC38#32
  | 107 => 0xB3DC0810#32
  | 108 => 0x33D96196#32
  | 109 => 0xB3D6D7AE#32
  | 110 => 0x33D4694B#32
  | 111 => 0xB3D21572#32
  | 112 => 0x33CFDB34#32
  | 113 => 0xB3CDB9B1#32
  | 114 => 0x33CBB015#32
  | 115 => 0xB3C9BD97#32
  | 116 => 0x33C7E17D#32
  | 117 => 0xB3C61B15#32
  | 118 => 0x33C469B8#32
  | 119 => 0xB3C2CCC7#32
  | 120 => 0x33C143B0#32
  | 121 => 0xB3BFCDE6#32
  | 122 => 0x33BE6AE7#32
  | 123 => 0xB3BD1A36#32
  | 124 => 0x33BBDB61#32
  | 125 => 0xB3BAADFB#32
  | 126 => 0x33B9919E#32
  | 127 => 0xB3B885EC#32
  | _ => 0#32

noncomputable abbrev lit0t0_35 (i : Nat) : BitVec 32 := match i % 128 with
  | 0 => 0x33B78A8A#32
  | 1 => 0xB3B69F28#32
  | 2 => 0x33B5C377#32
  | 3 => 0xB3B4F732#32
  | 4 => 0x33B43A15#32
  | 5 => 0xB3B38BE5#32
  | 6 => 0x33B2EC6A#32
  | 7 => 0xB3B25B72#32
  | 8 => 0x33B1D8CF#32
  | 9 => 0xB3B16459#32
  | 10 => 0x33B0FDEA#32
  | 11 => 0xB3B0A563#32
  | 12 => 0x33B05AA9#32
  | 13 => 0xB3B01DA5#32
  | 14 => 0x33AFEE43#32
  | 15 => 0xB3AFCC75#32
  | 16 => 0x33AFB831#32
  | 17 => 0xB3AFB170#32
  | 18 => 0x33AFB831#32
  | 19 => 0xB3AFCC75#32
  | 20 => 0x33AFEE43#32
  | 21 => 0xB3B01DA5#32
  | 22 => 0x33B05AA9#32
  | 23 => 0xB3B0A563#32
  | 24 => 0x33B0FDEA#32
  | 25 => 0xB3B16459#32
  | 26 => 0x33B1D8CF#32
  | 27 => 0xB3B25B72#32
  | 28 => 0x33B2EC6A#32
  | 29 => 0xB3B38BE5#32
  | 30 => 0x33B43A15#32
  | 31 => 0xB3B4F732#32
  | 32 => 0x33B5C377#32
  | 33 => 0xB3B69F28#32
  | 34 => 0x33B78A8A#32
  | 35 => 0xB3B885EC#32
  | 36 => 0x33B9919E#32
  | 37 => 0xB3BAADFB#32
  | 38 => 0x33BBDB61#32
  | 39 => 0xB3BD1A36#32
  | 40 => 0x33BE6AE7#32
  | 41 => 0xB3BFCDE6#32
  | 42 => 0x33C143B0#32
  | 43 => 0xB3C2CCC7#32
  | 44 => 0x33C469B8#32
  | 45 => 0xB3C61B15#32
  | 46 => 0x33C7E17D#32
  | 47 => 0xB3C9BD97#32
  | 48 => 0x33CBB015#32
  | 49 => 0xB3CDB9B1#32
  | 50 => 0x33CFDB34#32
  | 51 => 0xB3D21572#32
  | 52 => 0x33D4694B#32
  | 53 => 0xB3D6D7AE#32
  | 54 => 0x33D96196#32
  | 55 => 0xB3DC0810#32
  | 56 => 0x33DECC38#32
  | 57 => 0xB3E1AF3D#32
  | 58 => 0x33E4B25D#32
  | 59 => 0xB3E7D6EF#32
  | 60 => 0x33EB1E5A#32
  | 61 => 0xB3EE8A1F#32
  | 62 => 0x33F21BD6#32
  | 63 => 0xB3F5D532#32
  | 64 => 0x33F9B800#32
  | 65 => 0xB3FDC62E#32
  | 66 => 0x340100E3#32
  | 67 => 0xB403367C#32
  | 68 => 0x3405850C#32
  | 69 => 0xB407EDD1#32
  | 70 => 0x340A721F#32
  | 71 => 0xB40D1360#32
  | 72 => 0x340FD31A#32
  | 73 => 0xB412B2ED#32
  | 74 => 0x3415B495#32
  | 75 => 0xB418D9F0#32
  | 76 => 0x341C2500#32
  | 77 => 0xB41F97EA#32
  | 78 => 0x342334FF#32
  | 79 => 0xB426FEBD#32
  | 80 => 0x342AF7D2#32
  | 81 => 0xB42F2322#32
  | 82 => 0x343383CC#32
  | 83 => 0xB4381D32#32
  | 84 => 0x343CF2FA#32
  | 85 => 0xB4420919#32
  | 86 => 0x344763DA#32
  | 87 => 0xB44D07E6#32
  | 88 => 0x3452FA51#32
  | 89 => 0xB45940A1#32
  | 90 => 0x345FE0DA#32
  | 91 => 0xB466E193#32
  | 92 => 0x346E49FF#32
  | 93 => 0xB4762200#32
  | 94 => 0x347E723F#32
  | 95 => 0xB483A221#32
  | 96 => 0x34885143#32
  | 97 => 0xB48D4C4D#32
  | 98 => 0x349299A5#32
  | 99 => 0xB4984061#32
  | 100 => 0x349E485F#32
  | 101 => 0xB4A4BA5F#32
  | 102 => 0x34ABA023#32
  | 103 => 0xB4B30492#32
  | 104 => 0x34BAF3E5#32
  | 105 => 0xB4C37BD6#32
  | 106 => 0x34CCABDA#32
  | 107 => 0xB4D69568#32
  | 108 => 0x34E14C49#32
  | 109 => 0xB4ECE6F7#32
  | 110 => 0x34F97F13#32
  | 111 => 0xB50398F7#32
  | 112 => 0x350B1097#32
  | 113 => 0xB51339CD#32
  | 114 => 0x351C2B08#32
  | 115 => 0xB525FE56#32
  | 116 => 0x3530D21D#32
  | 117 => 0xB53CCA00#32
  | 118 => 0x354A0FF9#32
  | 119 => 0xB558D5BB#32
  | 120 => 0x35695670#32
  | 121 => 0xB57BD8F1#32
  | 122 => 0x3588594C#32
  | 123 => 0xB5942572#32
  | 124 => 0x35A19018#32
  | 125 => 0xB5B0E6EF#32
  | 126 => 0x35C28A3B#32
  | 127 => 0xB5D6F23A#32
  | _ => 0#32

noncomputable abbrev lit0t0_36 (i : Nat) : BitVec 32 := match i % 128 with
  | 0 => 0xB5D6F23A#32
  | 1 => 0x35EEB658#32
  | 2 => 0xB6054B76#32
  | 3 => 0x3615C529#32
  | 4 => 0xB6296767#32
  | 5 => 0x3641014B#32
  | 6 => 0xB65DA20C#32
  | 7 => 0x368056F2#32
  | 8 => 0xB695FBC4#32
  | 9 => 0x36B0ED61#32
  | 10 => 0xB6D29E9B#32
  | 11 => 0x36FFBDB2#32
  | 12 => 0xB692EE32#32
  | 13 => 0x391EBB1A#32
  | 14 => 0x3B12D0DF#32
  | 15 => 0x3CA0086D#32
  | 16 => 0x3DBAD58B#32
  | 17 => 0x3E6BB748#32
  | 18 => 0x3EA069FE#32
  | 19 => 0x3E6BB748#32
  | 20 => 0x3DBAD58B#32
  | 21 => 0x3CA0086D#32
  | 22 => 0x3B12D0DF#32
  | 23 => 0x391EBB1A#32
  | 24 => 0xB692EE32#32
  | 25 => 0x36FFBDB2#32
  | 26 => 0xB6D29E9B#32
  | 27 => 0x36B0ED61#32
  | 28 => 0xB695FBC4#32
  | 29 => 0x368056F2#32
  | 30 => 0xB65DA20C#32
  | 31 => 0x3641014B#32
  | 32 => 0xB6296767#32
  | 33 => 0x3615C529#32
  | 34 => 0xB6054B76#32
  | 35 => 0x35EEB658#32
  | 36 => 0xB5D6F23A#32
  | 37 => 0x35C28A3B#32
  | 38 => 0xB5B0E6EF#32
  | 39 => 0x35A19018#32
  | 40 => 0xB5942572#32
  | 41 => 0x3588594C#32
  | 42 => 0xB57BD8F1#32
  | 43 => 0x35695670#32
  | 44 => 0xB558D5BB#32
  | 45 => 0x354A0FF9#32
  | 46 => 0xB53CCA00#32
  | 47 => 0x3530D21D#32
  | 48 => 0xB525FE56#32
  | 49 => 0x351C2B08#32
  | 50 => 0xB51339CD#32
  | 51 => 0x350B1097#32
  | 52 => 0xB50398F7#32
  | 53 => 0x34F97F13#32
  | 54 => 0xB4ECE6F7#32
  | 55 => 0x34E14C49#32
  | 56 => 0xB4D69568#32
  | 57 => 0x34CCABDA#32
  | 58 => 0xB4C37BD6#32
  | 59 => 0x34BAF3E5#32
  | 60 => 0xB4B30492#32
  | 61 => 0x34ABA023#32
  | 62 => 0xB4A4BA5F#32
  | 63 => 0x349E485F#32
  | 64 => 0xB4984061#32
  | 65 => 0x349299A5#32
  | 66 => 0xB48D4C4D#32
  | 67 => 0x34885143#32
  | 68 => 0xB483A221#32
  | 69 => 0x347E723F#32
  | 70 => 0xB4762200#32
  | 71 => 0x346E49FF#32
  | 72 => 0xB466E193#32
  | 73 => 0x345FE0DA#32
  | 74 => 0xB45940A1#32
  | 75 => 0x3452FA51#32
  | 76 => 0xB44D07E6#32
  | 77 => 0x344763DA#32
  | 78 => 0xB4420919#32
  | 79 => 0x343CF2FA#32
  | 80 => 0xB4381D32#32
  | 81 => 0x343383CC#32
  | 82 => 0xB42F2322#32
  | 83 => 0x342AF7D2#32
  | 84 => 0xB426FEBD#32
  | 85 => 0x342334FF#32
  | 86 => 0xB41F97EA#32
  | 87 => 0x341C2500#32
  | 88 => 0xB418D9F0#32
  | 89 => 0x3415B495#32
  | 90 => 0xB412B2ED#32
  | 91 => 0x340FD31A#32
  | 92 => 0xB40D1360#32
  | 93 => 0x340A721F#32
  | 94 => 0xB407EDD1#32
  | 95 => 0x3405850C#32
  | 96 => 0xB403367C#32
  | 97 => 0x340100E3#32
  | 98 => 0xB3FDC62E#32
  | 99 => 0x33F9B800#32
  | 100 => 0xB3F5D532#32
  | 101 => 0x33F21BD6#32
  | 102 => 0xB3EE8A1F#32
  | 103 => 0x33EB1E5A#32
  | 104 => 0xB3E7D6EF#32
  | 105 => 0x33E4B25D#32
  | 106 => 0xB3E1AF3D#32
  | 107 => 0x33DECC38#32
  | 108 => 0xB3DC0810#32
  | 109 => 0x33D96196#32
  | 110 => 0xB3D6D7AE#32
  | 111 => 0x33D4694B#32
  | 112 => 0xB3D21572#32
  | 113 => 0x33CFDB34#32
  | 114 => 0xB3CDB9B1#32
  | 115 => 0x33CBB015#32
  | 116 => 0xB3C9BD97#32
  | 117 => 0x33C7E17D#32
  | 118 => 0xB3C61B15#32
  | 119 => 0x33C469B8#32
  | 120 => 0xB3C2CCC7#32
  | 121 => 0x33C143B0#32
  | 122 => 0xB3BFCDE6#32
  | 123 => 0x33BE6AE7#32
  | 124 => 0xB3BD1A36#32
  | 125 => 0x33BBDB61#32
  | 126 => 0xB3BAADFB#32
  | 127 => 0x33B9919E#32
  | _ => 0#32

noncomputable abbrev lit0t0_37 (i : Nat) : BitVec 32 := match i % 128 with
  | 0 => 0xB3B885EC#32
  | 1 => 0x33B78A8A#32
  | 2 => 0xB3B69F28#32
  | 3 => 0x33B5C377#32
  | 4 => 0xB3B4F732#32
  | 5 => 0x33B43A15#32
  | 6 => 0xB3B38BE5#32
  | 7 => 0x33B2EC6A#32
  | 8 => 0xB3B25B72#32
  | 9 => 0x33B1D8CF#32
  | 10 => 0xB3B16459#32
  | 11 => 0x33B0FDEA#32
  | 12 => 0xB3B0A563#32
  | 13 => 0x33B05AA9#32
  | 14 => 0xB3B01DA5#32
  | 15 => 0x33AFEE43#32
  | 16 => 0xB3AFCC75#32
  | 17 => 0x33AFB831#32
  | 18 => 0xB3AFB170#32
  | 19 => 0x33AFB831#32
  | 20 => 0xB3AFCC75#32
  | 21 => 0x33AFEE43#32
  | 22 => 0xB3B01DA5#32
  | 23 => 0x33B05AA9#32
  | 24 => 0xB3B0A563#32
  | 25 => 0x33B0FDEA#32
  | 26 => 0xB3B16459#32
  | 27 => 0x33B1D8CF#32
  | 28 => 0xB3B25B72#32
  | 29 => 0x33B2EC6A#32
  | 30 => 0xB3B38BE5#32
  | 31 => 0x33B43A15#32
  | 32 => 0xB3B4F732#32
  | 33 => 0x33B5C377#32
  | 34 => 0xB3B69F28#32
  | 35 => 0x33B78A8A#32
  | 36 => 0xB3B885EC#32
  | 37 => 0x33B9919E#32
  | 38 => 0xB3BAADFB#32
  | 39 => 0x33BBDB61#32
  | 40 => 0xB3BD1A36#32
  | 41 => 0x33BE6AE7#32
  | 42 => 0xB3BFCDE6#32
  | 43 => 0x33C143B0#32
  | 44 => 0xB3C2CCC7#32
  | 45 => 0x33C469B8#32
  | 46 => 0xB3C61B15#32
  | 47 => 0x33C7E17D#32
  | 48 => 0xB3C9BD97#32
  | 49 => 0x33CBB015#32
  | 50 => 0xB3CDB9B1#32
  | 51 => 0x33CFDB34#32
  | 52 => 0xB3D21572#32
  | 53 => 0x33D4694B#32
  | 54 => 0xB3D6D7AE#32
  | 55 => 0x33D96196#32
  | 56 => 0xB3DC0810#32
  | 57 => 0x33DECC38#32
  | 58 => 0xB3E1AF3D#32
  | 59 => 0x33E4B25D#32
  | 60 => 0xB3E7D6EF#32
  | 61 => 0x33EB1E5A#32
  | 62 => 0xB3EE8A1F#32
  | 63 => 0x33F21BD6#32
  | 64 => 0xB3F5D532#32
  | 65 => 0x33F9B800#32
  | 66 => 0xB3FDC62E#32
  | 67 => 0x340100E3#32
  | 68 => 0xB403367C#32
  | 69 => 0x3405850C#32
  | 70 => 0xB407EDD1#32
  | 71 => 0x340A721F#32
  | 72 => 0xB40D1360#32
  | 73 => 0x340FD31A#32
  | 74 => 0xB412B2ED#32
  | 75 => 0x3415B495#32
  | 76 => 0xB418D9F0#32
  | 77 => 0x341C2500#32
  | 78 => 0xB41F97EA#32
  | 79 => 0x342334FF#32
  | 80 => 0xB426FEBD#32
  | 81 => 0x342AF7D2#32
  | 82 => 0xB42F2322#32
  | 83 => 0x343383CC#32
  | 84 => 0xB4381D32#32
  | 85 => 0x343CF2FA#32
  | 86 => 0xB4420919#32
  | 87 => 0x344763DA#32
  | 88 => 0xB44D07E6#32
  | 89 => 0x3452FA51#32
  | 90 => 0xB45940A1#32
  | 91 => 0x345FE0DA#32
  | 92 => 0xB466E193#32
  | 93 => 0x346E49FF#32
  | 94 => 0xB4762200#32
  | 95 => 0x347E723F#32
  | 96 => 0xB483A221#32
  | 97 => 0x34885143#32
  | 98 => 0xB48D4C4D#32
  | 99 => 0x349299A5#32
  | 100 => 0xB4984061#32
  | 101 => 0x349E485F#32
  | 102 => 0xB4A4BA5F#32
  | 103 => 0x34ABA023#32
  | 104 => 0xB4B30492#32
  | 105 => 0x34BAF3E5#32
  | 106 => 0xB4C37BD6#32
  | 107 => 0x34CCABDA#32
  | 108 => 0xB4D69568#32
  | 109 => 0x34E14C49#32
  | 110 => 0xB4ECE6F7#32
  | 111 => 0x34F97F13#32
  | 112 => 0xB50398F7#32
  | 113 => 0x350B1097#32
  | 114 => 0xB51339CD#32
  | 115 => 0x351C2B08#32
  | 116 => 0xB525FE56#32
  | 117 => 0x3530D21D#32
  | 118 => 0xB53CCA00#32
  | 119 => 0x354A0FF9#32
  | 120 => 0xB558D5BB#32
  | 121 => 0x35695670#32
  | 122 => 0xB57BD8F1#32
  | 123 => 0x3588594C#32
  | 124 => 0xB5942572#32
  | 125 => 0x35A19018#32
  | 126 => 0xB5B0E6EF#32
  | 127 => 0x35C28A3B#32
  | _ => 0#32

noncomputable abbrev lit0t0_38 (i : Nat) : BitVec 32 := match i % 128 with
  | 0 => 0x35C28A3B#32
  | 1 => 0xB5D6F23A#32
  | 2 => 0x35EEB658#32
  | 3 => 0xB6054B76#32
  | 4 => 0x3615C529#32
  | 5 => 0xB6296767#32
  | 6 => 0x3641014B#32
  | 7 => 0xB65DA20C#32
  | 8 => 0x368056F2#32
  | 9 => 0xB695FBC4#32
  | 10 => 0x36B0ED61#32
  | 11 => 0xB6D29E9B#32
  | 12 => 0x36FFBDB2#32
  | 13 => 0xB692EE32#32
  | 14 => 0x391EBB1A#32
  | 15 => 0x3B12D0DF#32
  | 16 => 0x3CA0086D#32
  | 17 => 0x3DBAD58B#32
  | 18 => 0x3E6BB748#32
  | 19 => 0x3EA069FE#32
  | 20 => 0x3E6BB748#32
  | 21 => 0x3DBAD58B#32
  | 22 => 0x3CA0086D#32
  | 23 => 0x3B12D0DF#32
  | 24 => 0x391EBB1A#32
  | 25 => 0xB692EE32#32
  | 26 => 0x36FFBDB2#32
  | 27 => 0xB6D29E9B#32
  | 28 => 0x36B0ED61#32
  | 29 => 0xB695FBC4#32
  | 30 => 0x368056F2#32
  | 31 => 0xB65DA20C#32
  | 32 => 0x3641014B#32
  | 33 => 0xB6296767#32
  | 34 => 0x3615C529#32
  | 35 => 0xB6054B76#32
  | 36 => 0x35EEB658#32
  | 37 => 0xB5D6F23A#32
  | 38 => 0x35C28A3B#32
  | 39 => 0xB5B0E6EF#32
  | 40 => 0x35A19018#32
  | 41 => 0xB5942572#32
  | 42 => 0x3588594C#32
  | 43 => 0xB57BD8F1#32
  | 44 => 0x35695670#32
  | 45 => 0xB558D5BB#32
  | 46 => 0x354A0FF9#32
  | 47 => 0xB53CCA00#32
  | 48 => 0x3530D21D#32
  | 49 => 0xB525FE56#32
  | 50 => 0x351C2B08#32
  | 51 => 0xB51339CD#32
  | 52 => 0x350B1097#32
  | 53 => 0xB50398F7#32
  | 54 => 0x34F97F13#32
  | 55 => 0xB4ECE6F7#32
  | 56 => 0x34E14C49#32
  | 57 => 0xB4D69568#32
  | 58 => 0x34CCABDA#32
  | 59 => 0xB4C37BD6#32
  | 60 => 0x34BAF3E5#32
  | 61 => 0xB4B30492#32
  | 62 => 0x34ABA023#32
  | 63 => 0xB4A4BA5F#32
  | 64 => 0x349E485F#32
  | 65 => 0xB4984061#32
  | 66 => 0x349299A5#32
  | 67 => 0xB48D4C4D#32
  | 68 => 0x34885143#32
  | 69 => 0xB483A221#32
  | 70 => 0x347E723F#32
  | 71 => 0xB4762200#32
  | 72 => 0x346E49FF#32
  | 73 => 0xB466E193#32
  | 74 => 0x345FE0DA#32
  | 75 => 0xB45940A1#32
  | 76 => 0x3452FA51#32
  | 77 => 0xB44D07E6#32
  | 78 => 0x344763DA#32
  | 79 => 0xB4420919#32
  | 80 => 0x343CF2FA#32
  | 81 => 0xB4381D32#32
  | 82 => 0x343383CC#32
  | 83 => 0xB42F2322#32
  | 84 => 0x342AF7D2#32
  | 85 => 0xB426FEBD#32
  | 86 => 0x342334FF#32
  | 87 => 0xB41F97EA#32
  | 88 => 0x341C2500#32
  | 89 => 0xB418D9F0#32
  | 90 => 0x3415B495#32
  | 91 => 0xB412B2ED#32
  | 92 => 0x340FD31A#32
  | 93 => 0xB40D1360#32
  | 94 => 0x340A721F#32
  | 95 => 0xB407EDD1#32
  | 96 => 0x3405850C#32
  | 97 => 0xB403367C#32
  | 98 => 0x340100E3#32
  | 99 => 0xB3FDC62E#32
  | 100 => 0x33F9B800#32
  | 101 => 0xB3F5D532#32
  | 102 => 0x33F21BD6#32
  | 103 => 0xB3EE8A1F#32
  | 104 => 0x33EB1E5A#32
  | 105 => 0xB3E7D6EF#32
  | 106 => 0x33E4B25D#32
  | 107 => 0xB3E1AF3D#32
  | 108 => 0x33DECC38#32
  | 109 => 0xB3DC0810#32
  | 110 => 0x33D96196#32
  | 111 => 0xB3D6D7AE#32
  | 112 => 0x33D4694B#32
  | 113 => 0xB3D21572#32
  | 114 => 0x33CFDB34#32
  | 115 => 0xB3CDB9B1#32
  | 116 => 0x33CBB015#32
  | 117 => 0xB3C9BD97#32
  | 118 => 0x33C7E17D#32
  | 119 => 0xB3C61B15#32
  | 120 => 0x33C469B8#32
  | 121 => 0xB3C2CCC7#32
  | 122 => 0x33C143B0#32
  | 123 => 0xB3BFCDE6#32
  | 124 => 0x33BE6AE7#32
  | 125 => 0xB3BD1A36#32
  | 126 => 0x33BBDB61#32
  | 127 => 0xB3BAADFB#32
  | _ => 0#32

noncomputable abbrev lit0t0_39 (i : Nat) : BitVec 32 := match i % 128 with
  | 0 => 0x33B9919E#32
  | 1 => 0xB3B885EC#32
  | 2 => 0x33B78A8A#32
  | 3 => 0xB3B69F28#32
  | 4 => 0x33B5C377#32
  | 5 => 0xB3B4F732#32
  | 6 => 0x33B43A15#32
  | 7 => 0xB3B38BE5#32
  | 8 => 0x33B2EC6A#32
  | 9 => 0xB3B25B72#32
  | 10 => 0x33B1D8CF#32
  | 11 => 0xB3B16459#32
  | 12 => 0x33B0FDEA#32
  | 13 => 0xB3B0A563#32
  | 14 => 0x33B05AA9#32
  | 15 => 0xB3B01DA5#32
  | 16 => 0x33AFEE43#32
  | 17 => 0xB3AFCC75#32
  | 18 => 0x33AFB831#32
  | 19 => 0xB3AFB170#32
  | 20 => 0x33AFB831#32
  | 21 => 0xB3AFCC75#32
  | 22 => 0x33AFEE43#32
  | 23 => 0xB3B01DA5#32
  | 24 => 0x33B05AA9#32
  | 25 => 0xB3B0A563#32
  | 26 => 0x33B0FDEA#32
  | 27 => 0xB3B16459#32
  | 28 => 0x33B1D8CF#32
  | 29 => 0xB3B25B72#32
  | 30 => 0x33B2EC6A#32
  | 31 => 0xB3B38BE5#32
  | 32 => 0x33B43A15#32
  | 33 => 0xB3B4F732#32
  | 34 => 0x33B5C377#32
  | 35 => 0xB3B69F28#32
  | 36 => 0x33B78A8A#32
  | 37 => 0xB3B885EC#32
  | 38 => 0x33B9919E#32
  | 39 => 0xB3BAADFB#32
  | 40 => 0x33BBDB61#32
  | 41 => 0xB3BD1A36#32
  | 42 => 0x33BE6AE7#32
  | 43 => 0xB3BFCDE6#32
  | 44 => 0x33C143B0#32
  | 45 => 0xB3C2CCC7#32
  | 46 => 0x33C469B8#32
  | 47 => 0xB3C61B15#32
  | 48 => 0x33C7E17D#32
  | 49 => 0xB3C9BD97#32
  | 50 => 0x33CBB015#32
  | 51 => 0xB3CDB9B1#32
  | 52 => 0x33CFDB34#32
  | 53 => 0xB3D21572#32
  | 54 => 0x33D4694B#32
  | 55 => 0xB3D6D7AE#32
  | 56 => 0x33D96196#32
  | 57 => 0xB3DC0810#32
  | 58 => 0x33DECC38#32
  | 59 => 0xB3E1AF3D#32
  | 60 => 0x33E4B25D#32
  | 61 => 0xB3E7D6EF#32
  | 62 => 0x33EB1E5A#32
  | 63 => 0xB3EE8A1F#32
  | 64 => 0x33F21BD6#32
  | 65 => 0xB3F5D532#32
  | 66 => 0x33F9B800#32
  | 67 => 0xB3FDC62E#32
  | 68 => 0x340100E3#32
  | 69 => 0xB403367C#32
  | 70 => 0x3405850C#32
  | 71 => 0xB407EDD1#32
  | 72 => 0x340A721F#32
  | 73 => 0xB40D1360#32
  | 74 => 0x340FD31A#32
  | 75 => 0xB412B2ED#32
  | 76 => 0x3415B495#32
  | 77 => 0xB418D9F0#32
  | 78 => 0x341C2500#32
  | 79 => 0xB41F97EA#32
  | 80 => 0x342334FF#32
  | 81 => 0xB426FEBD#32
  | 82 => 0x342AF7D2#32
  | 83 => 0xB42F2322#32
  | 84 => 0x343383CC#32
  | 85 => 0xB4381D32#32
  | 86 => 0x343CF2FA#32
  | 87 => 0xB4420919#32
  | 88 => 0x344763DA#32
  | 89 => 0xB44D07E6#32
  | 90 => 0x3452FA51#32
  | 91 => 0xB45940A1#32
  | 92 => 0x345FE0DA#32
  | 93 => 0xB466E193#32
  | 94 => 0x346E49FF#32
  | 95 => 0xB4762200#32
  | 96 => 0x347E723F#32
  | 97 => 0xB483A221#32
  | 98 => 0x34885143#32
  | 99 => 0xB48D4C4D#32
  | 100 => 0x349299A5#32
  | 101 => 0xB4984061#32
  | 102 => 0x349E485F#32
  | 103 => 0xB4A4BA5F#32
  | 104 => 0x34ABA023#32
  | 105 => 0xB4B30492#32
  | 106 => 0x34BAF3E5#32
  | 107 => 0xB4C37BD6#32
  | 108 => 0x34CCABDA#32
  | 109 => 0xB4D69568#32
  | 110 => 0x34E14C49#32
  | 111 => 0xB4ECE6F7#32
  | 112 => 0x34F97F13#32
  | 113 => 0xB50398F7#32
  | 114 => 0x350B1097#32
  | 115 => 0xB51339CD#32
  | 116 => 0x351C2B08#32
  | 117 => 0xB525FE56#32
  | 118 => 0x3530D21D#32
  | 119 => 0xB53CCA00#32
  | 120 => 0x354A0FF9#32
  | 121 => 0xB558D5BB#32
  | 122 => 0x35695670#32
  | 123 => 0xB57BD8F1#32
  | 124 => 0x3588594C#32
  | 125 => 0xB5942572#32
  | 126 => 0x35A19018#32
  | 127 => 0xB5B0E6EF#32
  | _ => 0#32

noncomputable abbrev lit0t0_40 (i : Nat) : BitVec 32 := match i % 128 with
  | 0 => 0xB5B0E6EF#32
  | 1 => 0x35C28A3B#32
  | 2 => 0xB5D6F23A#32
  | 3 => 0x35EEB658#32
  | 4 => 0xB6054B76#32
  | 5 => 0x3615C529#32
  | 6 => 0xB6296767#32
  | 7 => 0x3641014B#32
  | 8 => 0xB65DA20C#32
  | 9 => 0x368056F2#32
  | 10 => 0xB695FBC4#32
  | 11 => 0x36B0ED61#32
  | 12 => 0xB6D29E9B#32
  | 13 => 0x36FFBDB2#32
  | 14 => 0xB692EE32#32
  | 15 => 0x391EBB1A#32
  | 16 => 0x3B12D0DF#32
  | 17 => 0x3CA0086D#32
  | 18 => 0x3DBAD58B#32
  | 19 => 0x3E6BB748#32
  | 20 => 0x3EA069FE#32
  | 21 => 0x3E6BB748#32
  | 22 => 0x3DBAD58B#32
  | 23 => 0x3CA0086D#32
  | 24 => 0x3B12D0DF#32
  | 25 => 0x391EBB1A#32
  | 26 => 0xB692EE32#32
  | 27 => 0x36FFBDB2#32
  | 28 => 0xB6D29E9B#32
  | 29 => 0x36B0ED61#32
  | 30 => 0xB695FBC4#32
  | 31 => 0x368056F2#32
  | 32 => 0xB65DA20C#32
  | 33 => 0x3641014B#32
  | 34 => 0xB6296767#32
  | 35 => 0x3615C529#32
  | 36 => 0xB6054B76#32
  | 37 => 0x35EEB658#32
  | 38 => 0xB5D6F23A#32
  | 39 => 0x35C28A3B#32
  | 40 => 0xB5B0E6EF#32
  | 41 => 0x35A19018#32
  | 42 => 0xB5942572#32
  | 43 => 0x3588594C#32
  | 44 => 0xB57BD8F1#32
  | 45 => 0x35695670#32
  | 46 => 0xB558D5BB#32
  | 47 => 0x354A0FF9#32
  | 48 => 0xB53CCA00#32
  | 49 => 0x3530D21D#32
  | 50 => 0xB525FE56#32
  | 51 => 0x351C2B08#32
  | 52 => 0xB51339CD#32
  | 53 => 0x350B1097#32
  | 54 => 0xB50398F7#32
  | 55 => 0x34F97F13#32
  | 56 => 0xB4ECE6F7#32
  | 57 => 0x34E14C49#32
  | 58 => 0xB4D69568#32
  | 59 => 0x34CCABDA#32
  | 60 => 0xB4C37BD6#32
  | 61 => 0x34BAF3E5#32
  | 62 => 0xB4B30492#32
  | 63 => 0x34ABA023#32
  | 64 => 0xB4A4BA5F#32
  | 65 => 0x349E485F#32
  | 66 => 0xB4984061#32
  | 67 => 0x349299A5#32
  | 68 => 0xB48D4C4D#32
  | 69 => 0x34885142#32
  | 70 => 0xB483A221#32
  | 71 => 0x347E723F#32
  | 72 => 0xB4762200#32
  | 73 => 0x346E49FF#32
  | 74 => 0xB466E193#32
  | 75 => 0x345FE0DA#32
  | 76 => 0xB45940A1#32
  | 77 => 0x3452FA51#32
  | 78 => 0xB44D07E6#32
  | 79 => 0x344763DA#32
  | 80 => 0xB4420919#32
  | 81 => 0x343CF2FA#32
  | 82 => 0xB4381D32#32
  | 83 => 0x343383CC#32
  | 84 => 0xB42F2322#32
  | 85 => 0x342AF7D2#32
  | 86 => 0xB426FEBD#32
  | 87 => 0x342334FF#32
  | 88 => 0xB41F97EA#32
  | 89 => 0x341C2500#32
  | 90 => 0xB418D9F0#32
  | 91 => 0x3415B495#32
  | 92 => 0xB412B2ED#32
  | 93 => 0x340FD31A#32
  | 94 => 0xB40D1360#32
  | 95 => 0x340A721F#32
  | 96 => 0xB407EDD1#32
  | 97 => 0x3405850C#32
  | 98 => 0xB403367C#32
  | 99 => 0x340100E3#32
  | 100 => 0xB3FDC62E#32
  | 101 => 0x33F9B800#32
  | 102 => 0xB3F5D532#32
  | 103 => 0x33F21BD6#32
  | 104 => 0xB3EE8A1F#32
  | 105 => 0x33EB1E5A#32
  | 106 => 0xB3E7D6EF#32
  | 107 => 0x33E4B25D#32
  | 108 => 0xB3E1AF3D#32
  | 109 => 0x33DECC38#32
  | 110 => 0xB3DC0810#32
  | 111 => 0x33D96196#32
  | 112 => 0xB3D6D7AE#32
  | 113 => 0x33D4694B#32
  | 114 => 0xB3D21572#32
  | 115 => 0x33CFDB34#32
  | 116 => 0xB3CDB9B1#32
  | 117 => 0x33CBB015#32
  | 118 => 0xB3C9BD97#32
  | 119 => 0x33C7E17D#32
  | 120 => 0xB3C61B15#32
  | 121 => 0x33C469B8#32
  | 122 => 0xB3C2CCC7#32
  | 123 => 0x33C143B0#32
  | 124 => 0xB3BFCDE6#32
  | 125 => 0x33BE6AE7#32
  | 126 => 0xB3BD1A36#32
  | 127 => 0x33BBDB61#32
  | _ => 0#32

noncomputable abbrev lit0t0_41 (i : Nat) : BitVec 32 := match i % 128 with
  | 0 => 0xB3BAADFB#32
  | 1 => 0x33B9919E#32
  | 2 => 0xB3B885EC#32
  | 3 => 0x33B78A8A#32
  | 4 => 0xB3B69F28#32
  | 5 => 0x33B5C377#32
  | 6 => 0xB3B4F732#32
  | 7 => 0x33B43A15#32
  | 8 => 0xB3B38BE5#32
  | 9 => 0x33B2EC6A#32
  | 10 => 0xB3B25B72#32
  | 11 => 0x33B1D8CF#32
  | 12 => 0xB3B16459#32
  | 13 => 0x33B0FDEA#32
  | 14 => 0xB3B0A563#32
  | 15 => 0x33B05AA9#32
  | 16 => 0xB3B01DA5#32
  | 17 => 0x33AFEE43#32
  | 18 => 0xB3AFCC75#32
  | 19 => 0x33AFB831#32
  | 20 => 0xB3AFB170#32
  | 21 => 0x33AFB831#32
  | 22 => 0xB3AFCC75#32
  | 23 => 0x33AFEE43#32
  | 24 => 0xB3B01DA5#32
  | 25 => 0x33B05AA9#32
  | 26 => 0xB3B0A563#32
  | 27 => 0x33B0FDEA#32
  | 28 => 0xB3B16459#32
  | 29 => 0x33B1D8CF#32
  | 30 => 0xB3B25B72#32
  | 31 => 0x33B2EC6A#32
  | 32 => 0xB3B38BE5#32
  | 33 => 0x33B43A15#32
  | 34 => 0xB3B4F732#32
  | 35 => 0x33B5C377#32
  | 36 => 0xB3B69F28#32
  | 37 => 0x33B78A8A#32
  | 38 => 0xB3B885EC#32
  | 39 => 0x33B9919E#32
  | 40 => 0xB3BAADFB#32
  | 41 => 0x33BBDB61#32
  | 42 => 0xB3BD1A36#32
  | 43 => 0x33BE6AE7#32
  | 44 => 0xB3BFCDE6#32
  | 45 => 0x33C143B0#32
  | 46 => 0xB3C2CCC7#32
  | 47 => 0x33C469B8#32
  | 48 => 0xB3C61B15#32
  | 49 => 0x33C7E17D#32
  | 50 => 0xB3C9BD97#32
  | 51 => 0x33CBB015#32
  | 52 => 0xB3CDB9B1#32
  | 53 => 0x33CFDB34#32
  | 54 => 0xB3D21572#32
  | 55 => 0x33D4694B#32
  | 56 => 0xB3D6D7AE#32
  | 57 => 0x33D96196#32
  | 58 => 0xB3DC0810#32
  | 59 => 0x33DECC38#32
  | 60 => 0xB3E1AF3D#32
  | 61 => 0x33E4B25D#32
  | 62 => 0xB3E7D6EF#32
  | 63 => 0x33EB1E5A#32
  | 64 => 0xB3EE8A1F#32
  | 65 => 0x33F21BD6#32
  | 66 => 0xB3F5D532#32
  | 67 => 0x33F9B800#32
  | 68 => 0xB3FDC62E#32
  | 69 => 0x340100E3#32
  | 70 => 0xB403367C#32
  | 71 => 0x3405850C#32
  | 72 => 0xB407EDD1#32
  | 73 => 0x340A721F#32
  | 74 => 0xB40D1360#32
  | 75 => 0x340FD31A#32
  | 76 => 0xB412B2ED#32
  | 77 => 0x3415B495#32
  | 78 => 0xB418D9F0#32
  | 79 => 0x341C2500#32
  | 80 => 0xB41F97EA#32
  | 81 => 0x342334FF#32
  | 82 => 0xB426FEBD#32
  | 83 => 0x342AF7D2#32
  | 84 => 0xB42F2322#32
  | 85 => 0x343383CC#32
  | 86 => 0xB4381D32#32
  | 87 => 0x343CF2FA#32
  | 88 => 0xB4420919#32
  | 89 => 0x344763DA#32
  | 90 => 0xB44D07E6#32
  | 91 => 0x3452FA51#32
  | 92 => 0xB45940A1#32
  | 93 => 0x345FE0DA#32
  | 94 => 0xB466E193#32
  | 95 => 0x346E49FF#32
  | 96 => 0xB4762200#32
  | 97 => 0x347E723F#32
  | 98 => 0xB483A221#32
  | 99 => 0x34885142#32
  | 100 => 0xB48D4C4D#32
  | 101 => 0x349299A5#32
  | 102 => 0xB4984061#32
  | 103 => 0x349E485F#32
  | 104 => 0xB4A4BA5F#32
  | 105 => 0x34ABA023#32
  | 106 => 0xB4B30492#32
  | 107 => 0x34BAF3E5#32
  | 108 => 0xB4C37BD6#32
  | 109 => 0x34CCABDA#32
  | 110 => 0xB4D69568#32
  | 111 => 0x34E14C49#32
  | 112 => 0xB4ECE6F7#32
  | 113 => 0x34F97F13#32
  | 114 => 0xB50398F7#32
  | 115 => 0x350B1097#32
  | 116 => 0xB51339CD#32
  | 117 => 0x351C2B08#32
  | 118 => 0xB525FE56#32
  | 119 => 0x3530D21D#32
  | 120 => 0xB53CCA00#32
  | 121 => 0x354A0FF9#32
  | 122 => 0xB558D5BB#32
  | 123 => 0x35695670#32
  | 124 => 0xB57BD8F1#32
  | 125 => 0x3588594C#32
  | 126 => 0xB5942572#32
  | 127 => 0x35A19018#32
  | _ => 0#32

noncomputable abbrev lit0t0_42 (i : Nat) : BitVec 32 := match i % 128 with
  | 0 => 0x35A19018#32
  | 1 => 0xB5B0E6EF#32
  | 2 => 0x35C28A3B#32
  | 3 => 0xB5D6F23A#32
  | 4 => 0x35EEB658#32
  | 5 => 0xB6054B76#32
  | 6 => 0x3615C529#32
  | 7 => 0xB6296767#32
  | 8 => 0x3641014B#32
  | 9 => 0xB65DA20C#32
  | 10 => 0x368056F2#32
  | 11 => 0xB695FBC4#32
  | 12 => 0x36B0ED61#32
  | 13 => 0xB6D29E9B#32
  | 14 => 0x36FFBDB2#32
  | 15 => 0xB692EE32#32
  | 16 => 0x391EBB1A#32
  | 17 => 0x3B12D0DF#32
  | 18 => 0x3CA0086D#32
  | 19 => 0x3DBAD58B#32
  | 20 => 0x3E6BB748#32
  | 21 => 0x3EA069FE#32
  | 22 => 0x3E6BB748#32
  | 23 => 0x3DBAD58B#32
  | 24 => 0x3CA0086D#32
  | 25 => 0x3B12D0DF#32
  | 26 => 0x391EBB1A#32
  | 27 => 0xB692EE32#32
  | 28 => 0x36FFBDB2#32
  | 29 => 0xB6D29E9B#32
  | 30 => 0x36B0ED61#32
  | 31 => 0xB695FBC4#32
  | 32 => 0x368056F2#32
  | 33 => 0xB65DA20C#32
  | 34 => 0x3641014B#32
  | 35 => 0xB6296767#32
  | 36 => 0x3615C529#32
  | 37 => 0xB6054B76#32
  | 38 => 0x35EEB658#32
  | 39 => 0xB5D6F23A#32
  | 40 => 0x35C28A3B#32
  | 41 => 0xB5B0E6EF#32
  | 42 => 0x35A19018#32
  | 43 => 0xB5942572#32
  | 44 => 0x3588594C#32
  | 45 => 0xB57BD8F1#32
  | 46 => 0x35695670#32
  | 47 => 0xB558D5BB#32
  | 48 => 0x354A0FF9#32
  | 49 => 0xB53CCA00#32
  | 50 => 0x3530D21D#32
  | 51 => 0xB525FE56#32
  | 52 => 0x351C2B08#32
  | 53 => 0xB51339CD#32
  | 54 => 0x350B1097#32
  | 55 => 0xB50398F7#32
  | 56 => 0x34F97F13#32
  | 57 => 0xB4ECE6F7#32
  | 58 => 0x34E14C49#32
  | 59 => 0xB4D69568#32
  | 60 => 0x34CCABDA#32
  | 61 => 0xB4C37BD6#32
  | 62 => 0x34BAF3E5#32
  | 63 => 0xB4B30492#32
  | 64 => 0x34ABA023#32
  | 65 => 0xB4A4BA5F#32
  | 66 => 0x349E485F#32
  | 67 => 0xB4984061#32
  | 68 => 0x349299A5#32
  | 69 => 0xB48D4C4D#32
  | 70 => 0x34885143#32
  | 71 => 0xB483A221#32
  | 72 => 0x347E723F#32
  | 73 => 0xB4762200#32
  | 74 => 0x346E49FF#32
  | 75 => 0xB466E193#32
  | 76 => 0x345FE0DA#32
  | 77 => 0xB45940A1#32
  | 78 => 0x3452FA51#32
  | 79 => 0xB44D07E6#32
  | 80 => 0x344763DA#32
  | 81 => 0xB4420919#32
  | 82 => 0x343CF2FA#32
  | 83 => 0xB4381D32#32
  | 84 => 0x343383CC#32
  | 85 => 0xB42F2322#32
  | 86 => 0x342AF7D2#32
  | 87 => 0xB426FEBD#32
  | 88 => 0x342334FF#32
  | 89 => 0xB41F97EA#32
  | 90 => 0x341C2500#32
  | 91 => 0xB418D9F0#32
  | 92 => 0x3415B495#32
  | 93 => 0xB412B2ED#32
  | 94 => 0x340FD31A#32
  | 95 => 0xB40D1360#32
  | 96 => 0x340A721F#32
  | 97 => 0xB407EDD1#32
  | 98 => 0x3405850C#32
  | 99 => 0xB403367C#32
  | 100 => 0x340100E3#32
  | 101 => 0xB3FDC62E#32
  | 102 => 0x33F9B800#32
  | 103 => 0xB3F5D532#32
  | 104 => 0x33F21BD6#32
  | 105 => 0xB3EE8A1F#32
  | 106 => 0x33EB1E5A#32
  | 107 => 0xB3E7D6EF#32
  | 108 => 0x33E4B25D#32
  | 109 => 0xB3E1AF3D#32
  | 110 => 0x33DECC38#32
  | 111 => 0xB3DC0810#32
  | 112 => 0x33D96196#32
  | 113 => 0xB3D6D7AE#32
  | 114 => 0x33D4694B#32
  | 115 => 0xB3D21572#32
  | 116 => 0x33CFDB34#32
  | 117 => 0xB3CDB9B1#32
  | 118 => 0x33CBB015#32
  | 119 => 0xB3C9BD97#32
  | 120 => 0x33C7E17D#32
  | 121 => 0xB3C61B15#32
  | 122 => 0x33C469B8#32
  | 123 => 0xB3C2CCC7#32
  | 124 => 0x33C143B0#32
  | 125 => 0xB3BFCDE6#32
  | 126 => 0x33BE6AE7#32
  | 127 => 0xB3BD1A36#32
  | _ => 0#32

noncomputable abbrev lit0t0_43 (i : Nat) : BitVec 32 := match i % 128 with
  | 0 => 0x33BBDB61#32
  | 1 => 0xB3BAADFB#32
  | 2 => 0x33B9919E#32
  | 3 => 0xB3B885EC#32
  | 4 => 0x33B78A8A#32
  | 5 => 0xB3B69F28#32
  | 6 => 0x33B5C377#32
  | 7 => 0xB3B4F732#32
  | 8 => 0x33B43A15#32
  | 9 => 0xB3B38BE5#32
  | 10 => 0x33B2EC6A#32
  | 11 => 0xB3B25B72#32
  | 12 => 0x33B1D8CF#32
  | 13 => 0xB3B16459#32
  | 14 => 0x33B0FDEA#32
  | 15 => 0xB3B0A563#32
  | 16 => 0x33B05AA9#32
  | 17 => 0xB3B01DA5#32
  | 18 => 0x33AFEE43#32
  | 19 => 0xB3AFCC75#32
  | 20 => 0x33AFB831#32
  | 21 => 0xB3AFB170#32
  | 22 => 0x33AFB831#32
  | 23 => 0xB3AFCC75#32
  | 24 => 0x33AFEE43#32
  | 25 => 0xB3B01DA5#32
  | 26 => 0x33B05AA9#32
  | 27 => 0xB3B0A563#32
  | 28 => 0x33B0FDEA#32
  | 29 => 0xB3B16459#32
  | 30 => 0x33B1D8CF#32
  | 31 => 0xB3B25B72#32
  | 32 => 0x33B2EC6A#32
  | 33 => 0xB3B38BE5#32
  | 34 => 0x33B43A15#32
  | 35 => 0xB3B4F732#32
  | 36 => 0x33B5C377#32
  | 37 => 0xB3B69F28#32
  | 38 => 0x33B78A8A#32
  | 39 => 0xB3B885EC#32
  | 40 => 0x33B9919E#32
  | 41 => 0xB3BAADFB#32
  | 42 => 0x33BBDB61#32
  | 43 => 0xB3BD1A36#32
  | 44 => 0x33BE6AE7#32
  | 45 => 0xB3BFCDE6#32
  | 46 => 0x33C143B0#32
  | 47 => 0xB3C2CCC7#32
  | 48 => 0x33C469B8#32
  | 49 => 0xB3C61B15#32
  | 50 => 0x33C7E17D#32
  | 51 => 0xB3C9BD97#32
  | 52 => 0x33CBB015#32
  | 53 => 0xB3CDB9B1#32
  | 54 => 0x33CFDB34#32
  | 55 => 0xB3D21572#32
  | 56 => 0x33D4694B#32
  | 57 => 0xB3D6D7AE#32
  | 58 => 0x33D96196#32
  | 59 => 0xB3DC0810#32
  | 60 => 0x33DECC38#32
  | 61 => 0xB3E1AF3D#32
  | 62 => 0x33E4B25D#32
  | 63 => 0xB3E7D6EF#32
  | 64 => 0x33EB1E5A#32
  | 65 => 0xB3EE8A1F#32
  | 66 => 0x33F21BD6#32
  | 67 => 0xB3F5D532#32
  | 68 => 0x33F9B800#32
  | 69 => 0xB3FDC62E#32
  | 70 => 0x340100E3#32
  | 71 => 0xB403367C#32
  | 72 => 0x3405850C#32
  | 73 => 0xB407EDD1#32
  | 74 => 0x340A721F#32
  | 75 => 0xB40D1360#32
  | 76 => 0x340FD31A#32
  | 77 => 0xB412B2ED#32
  | 78 => 0x3415B495#32
  | 79 => 0xB418D9F0#32
  | 80 => 0x341C2500#32
  | 81 => 0xB41F97EA#32
  | 82 => 0x342334FF#32
  | 83 => 0xB426FEBD#32
  | 84 => 0x342AF7D2#32
  | 85 => 0xB42F2322#32
  | 86 => 0x343383CC#32
  | 87 => 0xB4381D32#32
  | 88 => 0x343CF2FA#32
  | 89 => 0xB4420919#32
  | 90 => 0x344763DA#32
  | 91 => 0xB44D07E6#32
  | 92 => 0x3452FA51#32
  | 93 => 0xB45940A1#32
  | 94 => 0x345FE0DA#32
  | 95 => 0xB466E193#32
  | 96 => 0x346E49FF#32
  | 97 => 0xB4762200#32
  | 98 => 0x347E723F#32
  | 99 => 0xB483A221#32
  | 100 => 0x34885143#32
  | 101 => 0xB48D4C4D#32
  | 102 => 0x349299A5#32
  | 103 => 0xB4984061#32
  | 104 => 0x349E485F#32
  | 105 => 0xB4A4BA5F#32
  | 106 => 0x34ABA023#32
  | 107 => 0xB4B30492#32
  | 108 => 0x34BAF3E5#32
  | 109 => 0xB4C37BD6#32
  | 110 => 0x34CCABDA#32
  | 111 => 0xB4D69568#32
  | 112 => 0x34E14C49#32
  | 113 => 0xB4ECE6F7#32
  | 114 => 0x34F97F13#32
  | 115 => 0xB50398F7#32
  | 116 => 0x350B1097#32
  | 117 => 0xB51339CD#32
  | 118 => 0x351C2B08#32
  | 119 => 0xB525FE56#32
  | 120 => 0x3530D21D#32
  | 121 => 0xB53CCA00#32
  | 122 => 0x354A0FF9#32
  | 123 => 0xB558D5BB#32
  | 124 => 0x35695670#32
  | 125 => 0xB57BD8F1#32
  | 126 => 0x3588594C#32
  | 127 => 0xB5942572#32
  | _ => 0#32

noncomputable abbrev lit0t0_44 (i : Nat) : BitVec 32 := match i % 128 with
  | 0 => 0xB5942572#32
  | 1 => 0x35A19018#32
  | 2 => 0xB5B0E6EF#32
  | 3 => 0x35C28A3B#32
  | 4 => 0xB5D6F23A#32
  | 5 => 0x35EEB658#32
  | 6 => 0xB6054B76#32
  | 7 => 0x3615C529#32
  | 8 => 0xB6296767#32
  | 9 => 0x3641014B#32
  | 10 => 0xB65DA20C#32
  | 11 => 0x368056F2#32
  | 12 => 0xB695FBC4#32
  | 13 => 0x36B0ED61#32
  | 14 => 0xB6D29E9B#32
  | 15 => 0x36FFBDB2#32
  | 16 => 0xB692EE32#32
  | 17 => 0x391EBB1A#32
  | 18 => 0x3B12D0DF#32
  | 19 => 0x3CA0086D#32
  | 20 => 0x3DBAD58B#32
  | 21 => 0x3E6BB748#32
  | 22 => 0x3EA069FE#32
  | 23 => 0x3E6BB748#32
  | 24 => 0x3DBAD58B#32
  | 25 => 0x3CA0086D#32
  | 26 => 0x3B12D0DF#32
  | 27 => 0x391EBB1A#32
  | 28 => 0xB692EE32#32
  | 29 => 0x36FFBDB2#32
  | 30 => 0xB6D29E9B#32
  | 31 => 0x36B0ED61#32
  | 32 => 0xB695FBC4#32
  | 33 => 0x368056F2#32
  | 34 => 0xB65DA20C#32
  | 35 => 0x3641014B#32
  | 36 => 0xB6296767#32
  | 37 => 0x3615C529#32
  | 38 => 0xB6054B76#32
  | 39 => 0x35EEB658#32
  | 40 => 0xB5D6F23A#32
  | 41 => 0x35C28A3B#32
  | 42 => 0xB5B0E6EF#32
  | 43 => 0x35A19018#32
  | 44 => 0xB5942572#32
  | 45 => 0x3588594C#32
  | 46 => 0xB57BD8F1#32
  | 47 => 0x35695670#32
  | 48 => 0xB558D5BB#32
  | 49 => 0x354A0FF9#32
  | 50 => 0xB53CCA00#32
  | 51 => 0x3530D21D#32
  | 52 => 0xB525FE56#32
  | 53 => 0x351C2B08#32
  | 54 => 0xB51339CD#32
  | 55 => 0x350B1097#32
  | 56 => 0xB50398F7#32
  | 57 => 0x34F97F13#32
  | 58 => 0xB4ECE6F7#32
  | 59 => 0x34E14C49#32
  | 60 => 0xB4D69568#32
  | 61 => 0x34CCABDA#32
  | 62 => 0xB4C37BD6#32
  | 63 => 0x34BAF3E5#32
  | 64 => 0xB4B30492#32
  | 65 => 0x34ABA023#32
  | 66 => 0xB4A4BA5F#32
  | 67 => 0x349E485F#32
  | 68 => 0xB4984061#32
  | 69 => 0x349299A5#32
  | 70 => 0xB48D4C4D#32
  | 71 => 0x34885143#32
  | 72 => 0xB483A221#32
  | 73 => 0x347E723F#32
  | 74 => 0xB4762200#32
  | 75 => 0x346E49FF#32
  | 76 => 0xB466E193#32
  | 77 => 0x345FE0DA#32
  | 78 => 0xB45940A1#32
  | 79 => 0x3452FA51#32
  | 80 => 0xB44D07E6#32
  | 81 => 0x344763DA#32
  | 82 => 0xB4420919#32
  | 83 => 0x343CF2FA#32
  | 84 => 0xB4381D32#32
  | 85 => 0x343383CC#32
  | 86 => 0xB42F2322#32
  | 87 => 0x342AF7D2#32
  | 88 => 0xB426FEBD#32
  | 89 => 0x342334FF#32
  | 90 => 0xB41F97EA#32
  | 91 => 0x341C2500#32
  | 92 => 0xB418D9F0#32
  | 93 => 0x3415B495#32
  | 94 => 0xB412B2ED#32
  | 95 => 0x340FD31A#32
  | 96 => 0xB40D1360#32
  | 97 => 0x340A721F#32
  | 98 => 0xB407EDD1#32
  | 99 => 0x3405850C#32
  | 100 => 0xB403367C#32
  | 101 => 0x340100E3#32
  | 102 => 0xB3FDC62E#32
  | 103 => 0x33F9B800#32
  | 104 => 0xB3F5D532#32
  | 105 => 0x33F21BD6#32
  | 106 => 0xB3EE8A1F#32
  | 107 => 0x33EB1E5A#32
  | 108 => 0xB3E7D6EF#32
  | 109 => 0x33E4B25D#32
  | 110 => 0xB3E1AF3D#32
  | 111 => 0x33DECC38#32
  | 112 => 0xB3DC0810#32
  | 113 => 0x33D96196#32
  | 114 => 0xB3D6D7AE#32
  | 115 => 0x33D4694B#32
  | 116 => 0xB3D21572#32
  | 117 => 0x33CFDB34#32
  | 118 => 0xB3CDB9B1#32
  | 119 => 0x33CBB015#32
  | 120 => 0xB3C9BD97#32
  | 121 => 0x33C7E17D#32
  | 122 => 0xB3C61B15#32
  | 123 => 0x33C469B8#32
  | 124 => 0xB3C2CCC7#32
  | 125 => 0x33C143B0#32
  | 126 => 0xB3BFCDE6#32
  | 127 => 0x33BE6AE7#32
  | _ => 0#32

noncomputable abbrev lit0t0_45 (i : Nat) : BitVec 32 := match i % 128 with
  | 0 => 0xB3BD1A36#32
  | 1 => 0x33BBDB61#32
  | 2 => 0xB3BAADFB#32
  | 3 => 0x33B9919E#32
  | 4 => 0xB3B885EC#32
  | 5 => 0x33B78A8A#32
  | 6 => 0xB3B69F28#32
  | 7 => 0x33B5C377#32
  | 8 => 0xB3B4F732#32
  | 9 => 0x33B43A15#32
  | 10 => 0xB3B38BE5#32
  | 11 => 0x33B2EC6A#32
  | 12 => 0xB3B25B72#32
  | 13 => 0x33B1D8CF#32
  | 14 => 0xB3B16459#32
  | 15 => 0x33B0FDEA#32
  | 16 => 0xB3B0A563#32
  | 17 => 0x33B05AA9#32
  | 18 => 0xB3B01DA5#32
  | 19 => 0x33AFEE43#32
  | 20 => 0xB3AFCC75#32
  | 21 => 0x33AFB831#32
  | 22 => 0xB3AFB170#32
  | 23 => 0x33AFB831#32
  | 24 => 0xB3AFCC75#32
  | 25 => 0x33AFEE43#32
  | 26 => 0xB3B01DA5#32
  | 27 => 0x33B05AA9#32
  | 28 => 0xB3B0A563#32
  | 29 => 0x33B0FDEA#32
  | 30 => 0xB3B16459#32
  | 31 => 0x33B1D8CF#32
  | 32 => 0xB3B25B72#32
  | 33 => 0x33B2EC6A#32
  | 34 => 0xB3B38BE5#32
  | 35 => 0x33B43A15#32
  | 36 => 0xB3B4F732#32
  | 37 => 0x33B5C377#32
  | 38 => 0xB3B69F28#32
  | 39 => 0x33B78A8A#32
  | 40 => 0xB3B885EC#32
  | 41 => 0x33B9919E#32
  | 42 => 0xB3BAADFB#32
  | 43 => 0x33BBDB61#32
  | 44 => 0xB3BD1A36#32
  | 45 => 0x33BE6AE7#32
  | 46 => 0xB3BFCDE6#32
  | 47 => 0x33C143B0#32
  | 48 => 0xB3C2CCC7#32
  | 49 => 0x33C469B8#32
  | 50 => 0xB3C61B15#32
  | 51 => 0x33C7E17D#32
  | 52 => 0xB3C9BD97#32
  | 53 => 0x33CBB015#32
  | 54 => 0xB3CDB9B1#32
  | 55 => 0x33CFDB34#32
  | 56 => 0xB3D21572#32
  | 57 => 0x33D4694B#32
  | 58 => 0xB3D6D7AE#32
  | 59 => 0x33D96196#32
  | 60 => 0xB3DC0810#32
  | 61 => 0x33DECC38#32
  | 62 => 0xB3E1AF3D#32
  | 63 => 0x33E4B25D#32
  | 64 => 0xB3E7D6EF#32
  | 65 => 0x33EB1E5A#32
  | 66 => 0xB3EE8A1F#32
  | 67 => 0x33F21BD6#32
  | 68 => 0xB3F5D532#32
  | 69 => 0x33F9B800#32
  | 70 => 0xB3FDC62E#32
  | 71 => 0x340100E3#32
  | 72 => 0xB403367C#32
  | 73 => 0x3405850C#32
  | 74 => 0xB407EDD1#32
  | 75 => 0x340A721F#32
  | 76 => 0xB40D1360#32
  | 77 => 0x340FD31A#32
  | 78 => 0xB412B2ED#32
  | 79 => 0x3415B495#32
  | 80 => 0xB418D9F0#32
  | 81 => 0x341C2500#32
  | 82 => 0xB41F97EA#32
  | 83 => 0x342334FF#32
  | 84 => 0xB426FEBD#32
  | 85 => 0x342AF7D2#32
  | 86 => 0xB42F2322#32
  | 87 => 0x343383CC#32
  | 88 => 0xB4381D32#32
  | 89 => 0x343CF2FA#32
  | 90 => 0xB4420919#32
  | 91 => 0x344763DA#32
  | 92 => 0xB44D07E6#32
  | 93 => 0x3452FA51#32
  | 94 => 0xB45940A1#32
  | 95 => 0x345FE0DA#32
  | 96 => 0xB466E193#32
  | 97 => 0x346E49FF#32
  | 98 => 0xB4762200#32
  | 99 => 0x347E723F#32
  | 100 => 0xB483A221#32
  | 101 => 0x34885143#32
  | 102 => 0xB48D4C4D#32
  | 103 => 0x349299A5#32
  | 104 => 0xB4984061#32
  | 105 => 0x349E485F#32
  | 106 => 0xB4A4BA5F#32
  | 107 => 0x34ABA023#32
  | 108 => 0xB4B30492#32
  | 109 => 0x34BAF3E5#32
  | 110 => 0xB4C37BD6#32
  | 111 => 0x34CCABDA#32
  | 112 => 0xB4D69568#32
  | 113 => 0x34E14C49#32
  | 114 => 0xB4ECE6F7#32
  | 115 => 0x34F97F13#32
  | 116 => 0xB50398F7#32
  | 117 => 0x350B1097#32
  | 118 => 0xB51339CD#32
  | 119 => 0x351C2B08#32
  | 120 => 0xB525FE56#32
  | 121 => 0x3530D21D#32
  | 122 => 0xB53CCA00#32
  | 123 => 0x354A0FF9#32
  | 124 => 0xB558D5BB#32
  | 125 => 0x35695670#32
  | 126 => 0xB57BD8F1#32
  | 127 => 0x3588594C#32
  | _ => 0#32

noncomputable abbrev lit0t0_46 (i : Nat) : BitVec 32 := match i % 128 with
  | 0 => 0x3588594C#32
  | 1 => 0xB5942572#32
  | 2 => 0x35A19018#32
  | 3 => 0xB5B0E6EF#32
  | 4 => 0x35C28A3B#32
  | 5 => 0xB5D6F23A#32
  | 6 => 0x35EEB658#32
  | 7 => 0xB6054B76#32
  | 8 => 0x3615C529#32
  | 9 => 0xB6296767#32
  | 10 => 0x3641014B#32
  | 11 => 0xB65DA20C#32
  | 12 => 0x368056F2#32
  | 13 => 0xB695FBC4#32
  | 14 => 0x36B0ED61#32
  | 15 => 0xB6D29E9B#32
  | 16 => 0x36FFBDB2#32
  | 17 => 0xB692EE32#32
  | 18 => 0x391EBB1A#32
  | 19 => 0x3B12D0DF#32
  | 20 => 0x3CA0086D#32
  | 21 => 0x3DBAD58B#32
  | 22 => 0x3E6BB748#32
  | 23 => 0x3EA069FE#32
  | 24 => 0x3E6BB748#32
  | 25 => 0x3DBAD58B#32
  | 26 => 0x3CA0086D#32
  | 27 => 0x3B12D0DF#32
  | 28 => 0x391EBB1A#32
  | 29 => 0xB692EE32#32
  | 30 => 0x36FFBDB2#32
  | 31 => 0xB6D29E9B#32
  | 32 => 0x36B0ED61#32
  | 33 => 0xB695FBC4#32
  | 34 => 0x368056F2#32
  | 35 => 0xB65DA20C#32
  | 36 => 0x3641014B#32
  | 37 => 0xB6296767#32
  | 38 => 0x3615C529#32
  | 39 => 0xB6054B76#32
  | 40 => 0x35EEB658#32
  | 41 => 0xB5D6F23A#32
  | 42 => 0x35C28A3B#32
  | 43 => 0xB5B0E6EF#32
  | 44 => 0x35A19018#32
  | 45 => 0xB5942572#32
  | 46 => 0x3588594C#32
  | 47 => 0xB57BD8F1#32
  | 48 => 0x35695670#32
  | 49 => 0xB558D5BB#32
  | 50 => 0x354A0FF9#32
  | 51 => 0xB53CCA00#32
  | 52 => 0x3530D21D#32
  | 53 => 0xB525FE56#32
  | 54 => 0x351C2B08#32
  | 55 => 0xB51339CD#32
  | 56 => 0x350B1097#32
  | 57 => 0xB50398F7#32
  | 58 => 0x34F97F13#32
  | 59 => 0xB4ECE6F7#32
  | 60 => 0x34E14C49#32
  | 61 => 0xB4D69568#32
  | 62 => 0x34CCABDA#32
  | 63 => 0xB4C37BD6#32
  | 64 => 0x34BAF3E5#32
  | 65 => 0xB4B30492#32
  | 66 => 0x34ABA023#32
  | 67 => 0xB4A4BA5F#32
  | 68 => 0x349E485F#32
  | 69 => 0xB4984061#32
  | 70 => 0x349299A5#32
  | 71 => 0xB48D4C4D#32
  | 72 => 0x34885143#32
  | 73 => 0xB483A221#32
  | 74 => 0x347E723F#32
  | 75 => 0xB4762200#32
  | 76 => 0x346E49FF#32
  | 77 => 0xB466E193#32
  | 78 => 0x345FE0DA#32
  | 79 => 0xB45940A1#32
  | 80 => 0x3452FA51#32
  | 81 => 0xB44D07E6#32
  | 82 => 0x344763DA#32
  | 83 => 0xB4420919#32
  | 84 => 0x343CF2FA#32
  | 85 => 0xB4381D32#32
  | 86 => 0x343383CC#32
  | 87 => 0xB42F2322#32
  | 88 => 0x342AF7D2#32
  | 89 => 0xB426FEBD#32
  | 90 => 0x342334FF#32
  | 91 => 0xB41F97EA#32
  | 92 => 0x341C2500#32
  | 93 => 0xB418D9F0#32
  | 94 => 0x3415B495#32
  | 95 => 0xB412B2ED#32
  | 96 => 0x340FD31A#32
  | 97 => 0xB40D1360#32
  | 98 => 0x340A721F#32
  | 99 => 0xB407EDD1#32
  | 100 => 0x3405850C#32
  | 101 => 0xB403367C#32
  | 102 => 0x340100E3#32
  | 103 => 0xB3FDC62E#32
  | 104 => 0x33F9B800#32
  | 105 => 0xB3F5D532#32
  | 106 => 0x33F21BD6#32
  | 107 => 0xB3EE8A1F#32
  | 108 => 0x33EB1E5A#32
  | 109 => 0xB3E7D6EF#32
  | 110 => 0x33E4B25D#32
  | 111 => 0xB3E1AF3D#32
  | 112 => 0x33DECC38#32
  | 113 => 0xB3DC0810#32
  | 114 => 0x33D96196#32
  | 115 => 0xB3D6D7AE#32
  | 116 => 0x33D4694B#32
  | 117 => 0xB3D21572#32
  | 118 => 0x33CFDB34#32
  | 119 => 0xB3CDB9B1#32
  | 120 => 0x33CBB015#32
  | 121 => 0xB3C9BD97#32
  | 122 => 0x33C7E17D#32
  | 123 => 0xB3C61B15#32
  | 124 => 0x33C469B8#32
  | 125 => 0xB3C2CCC7#32
  | 126 => 0x33C143B0#32
  | 127 => 0xB3BFCDE6#32
  | _ => 0#32

noncomputable abbrev lit0t0_47 (i : Nat) : BitVec 32 := match i % 128 with
  | 0 => 0x33BE6AE7#32
  | 1 => 0xB3BD1A36#32
  | 2 => 0x33BBDB61#32
  | 3 => 0xB3BAADFB#32
  | 4 => 0x33B9919E#32
  | 5 => 0xB3B885EC#32
  | 6 => 0x33B78A8A#32
  | 7 => 0xB3B69F28#32
  | 8 => 0x33B5C377#32
  | 9 => 0xB3B4F732#32
  | 10 => 0x33B43A15#32
  | 11 => 0xB3B38BE5#32
  | 12 => 0x33B2EC6A#32
  | 13 => 0xB3B25B72#32
  | 14 => 0x33B1D8CF#32
  | 15 => 0xB3B16459#32
  | 16 => 0x33B0FDEA#32
  | 17 => 0xB3B0A563#32
  | 18 => 0x33B05AA9#32
  | 19 => 0xB3B01DA5#32
  | 20 => 0x33AFEE43#32
  | 21 => 0xB3AFCC75#32
  | 22 => 0x33AFB831#32
  | 23 => 0xB3AFB170#32
  | 24 => 0x33AFB831#32
  | 25 => 0xB3AFCC75#32
  | 26 => 0x33AFEE43#32
  | 27 => 0xB3B01DA5#32
  | 28 => 0x33B05AA9#32
  | 29 => 0xB3B0A563#32
  | 30 => 0x33B0FDEA#32
  | 31 => 0xB3B16459#32
  | 32 => 0x33B1D8CF#32
  | 33 => 0xB3B25B72#32
  | 34 => 0x33B2EC6A#32
  | 35 => 0xB3B38BE5#32
  | 36 => 0x33B43A15#32
  | 37 => 0xB3B4F732#32
  | 38 => 0x33B5C377#32
  | 39 => 0xB3B69F28#32
  | 40 => 0x33B78A8A#32
  | 41 => 0xB3B885EC#32
  | 42 => 0x33B9919E#32
  | 43 => 0xB3BAADFB#32
  | 44 => 0x33BBDB61#32
  | 45 => 0xB3BD1A36#32
  | 46 => 0x33BE6AE7#32
  | 47 => 0xB3BFCDE6#32
  | 48 => 0x33C143B0#32
  | 49 => 0xB3C2CCC7#32
  | 50 => 0x33C469B8#32
  | 51 => 0xB3C61B15#32
  | 52 => 0x33C7E17D#32
  | 53 => 0xB3C9BD97#32
  | 54 => 0x33CBB015#32
  | 55 => 0xB3CDB9B1#32
  | 56 => 0x33CFDB34#32
  | 57 => 0xB3D21572#32
  | 58 => 0x33D4694B#32
  | 59 => 0xB3D6D7AE#32
  | 60 => 0x33D96196#32
  | 61 => 0xB3DC0810#32
  | 62 => 0x33DECC38#32
  | 63 => 0xB3E1AF3D#32
  | 64 => 0x33E4B25D#32
  | 65 => 0xB3E7D6EF#32
  | 66 => 0x33EB1E5A#32
  | 67 => 0xB3EE8A1F#32
  | 68 => 0x33F21BD6#32
  | 69 => 0xB3F5D532#32
  | 70 => 0x33F9B800#32
  | 71 => 0xB3FDC62E#32
  | 72 => 0x340100E3#32
  | 73 => 0xB403367C#32
  | 74 => 0x3405850C#32
  | 75 => 0xB407EDD1#32
  | 76 => 0x340A721F#32
  | 77 => 0xB40D1360#32
  | 78 => 0x340FD31A#32
  | 79 => 0xB412B2ED#32
  | 80 => 0x3415B495#32
  | 81 => 0xB418D9F0#32
  | 82 => 0x341C2500#32
  | 83 => 0xB41F97EA#32
  | 84 => 0x342334FF#32
  | 85 => 0xB426FEBD#32
  | 86 => 0x342AF7D2#32
  | 87 => 0xB42F2322#32
  | 88 => 0x343383CC#32
  | 89 => 0xB4381D32#32
  | 90 => 0x343CF2FA#32
  | 91 => 0xB4420919#32
  | 92 => 0x344763DA#32
  | 93 => 0xB44D07E6#32
  | 94 => 0x3452FA51#32
  | 95 => 0xB45940A1#32
  | 96 => 0x345FE0DA#32
  | 97 => 0xB466E193#32
  | 98 => 0x346E49FF#32
  | 99 => 0xB4762200#32
  | 100 => 0x347E723F#32
  | 101 => 0xB483A221#32
  | 102 => 0x34885142#32
  | 103 => 0xB48D4C4D#32
  | 104 => 0x349299A5#32
  | 105 => 0xB4984061#32
  | 106 => 0x349E485F#32
  | 107 => 0xB4A4BA5F#32
  | 108 => 0x34ABA023#32
  | 109 => 0xB4B30492#32
  | 110 => 0x34BAF3E5#32
  | 111 => 0xB4C37BD6#32
  | 112 => 0x34CCABDA#32
  | 113 => 0xB4D69568#32
  | 114 => 0x34E14C49#32
  | 115 => 0xB4ECE6F7#32
  | 116 => 0x34F97F13#32
  | 117 => 0xB50398F7#32
  | 118 => 0x350B1097#32
  | 119 => 0xB51339CD#32
  | 120 => 0x351C2B08#32
  | 121 => 0xB525FE56#32
  | 122 => 0x3530D21D#32
  | 123 => 0xB53CCA00#32
  | 124 => 0x354A0FF9#32
  | 125 => 0xB558D5BB#32
  | 126 => 0x35695670#32
  | 127 => 0xB57BD8F1#32
  | _ => 0#32

noncomputable abbrev lit0t0_48 (i : Nat) : BitVec 32 := match i % 128 with
  | 0 => 0xB57BD8F1#32
  | 1 => 0x3588594C#32
  | 2 => 0xB5942572#32
  | 3 => 0x35A19018#32
  | 4 => 0xB5B0E6EF#32
  | 5 => 0x35C28A3B#32
  | 6 => 0xB5D6F23A#32
  | 7 => 0x35EEB658#32
  | 8 => 0xB6054B76#32
  | 9 => 0x3615C529#32
  | 10 => 0xB6296767#32
  | 11 => 0x3641014B#32
  | 12 => 0xB65DA20C#32
  | 13 => 0x368056F2#32
  | 14 => 0xB695FBC4#32
  | 15 => 0x36B0ED61#32
  | 16 => 0xB6D29E9B#32
  | 17 => 0x36FFBDB2#32
  | 18 => 0xB692EE32#32
  | 19 => 0x391EBB1A#32
  | 20 => 0x3B12D0DF#32
  | 21 => 0x3CA0086D#32
  | 22 => 0x3DBAD58B#32
  | 23 => 0x3E6BB748#32
  | 24 => 0x3EA069FE#32
  | 25 => 0x3E6BB748#32
  | 26 => 0x3DBAD58B#32
  | 27 => 0x3CA0086D#32
  | 28 => 0x3B12D0DF#32
  | 29 => 0x391EBB1A#32
  | 30 => 0xB692EE32#32
  | 31 => 0x36FFBDB2#32
  | 32 => 0xB6D29E9B#32
  | 33 => 0x36B0ED61#32
  | 34 => 0xB695FBC4#32
  | 35 => 0x368056F2#32
  | 36 => 0xB65DA20C#32
  | 37 => 0x3641014B#32
  | 38 => 0xB6296767#32
  | 39 => 0x3615C529#32
  | 40 => 0xB6054B76#32
  | 41 => 0x35EEB658#32
  | 42 => 0xB5D6F23A#32
  | 43 => 0x35C28A3B#32
  | 44 => 0xB5B0E6EF#32
  | 45 => 0x35A19018#32
  | 46 => 0xB5942572#32
  | 47 => 0x3588594C#32
  | 48 => 0xB57BD8F1#32
  | 49 => 0x35695670#32
  | 50 => 0xB558D5BB#32
  | 51 => 0x354A0FF9#32
  | 52 => 0xB53CCA00#32
  | 53 => 0x3530D21D#32
  | 54 => 0xB525FE56#32
  | 55 => 0x351C2B08#32
  | 56 => 0xB51339CD#32
  | 57 => 0x350B1097#32
  | 58 => 0xB50398F7#32
  | 59 => 0x34F97F13#32
  | 60 => 0xB4ECE6F7#32
  | 61 => 0x34E14C49#32
  | 62 => 0xB4D69568#32
  | 63 => 0x34CCABDA#32
  | 64 => 0xB4C37BD6#32
  | 65 => 0x34BAF3E5#32
  | 66 => 0xB4B30492#32
  | 67 => 0x34ABA023#32
  | 68 => 0xB4A4BA5F#32
  | 69 => 0x349E485F#32
  | 70 => 0xB4984061#32
  | 71 => 0x349299A5#32
  | 72 => 0xB48D4C4D#32
  | 73 => 0x34885143#32
  | 74 => 0xB483A221#32
  | 75 => 0x347E723F#32
  | 76 => 0xB4762200#32
  | 77 => 0x346E49FF#32
  | 78 => 0xB466E193#32
  | 79 => 0x345FE0DA#32
  | 80 => 0xB45940A1#32
  | 81 => 0x3452FA51#32
  | 82 => 0xB44D07E6#32
  | 83 => 0x344763DA#32
  | 84 => 0xB4420919#32
  | 85 => 0x343CF2FA#32
  | 86 => 0xB4381D32#32
  | 87 => 0x343383CC#32
  | 88 => 0xB42F2322#32
  | 89 => 0x342AF7D2#32
  | 90 => 0xB426FEBD#32
  | 91 => 0x342334FF#32
  | 92 => 0xB41F97EA#32
  | 93 => 0x341C2500#32
  | 94 => 0xB418D9F0#32
  | 95 => 0x3415B495#32
  | 96 => 0xB412B2ED#32
  | 97 => 0x340FD31A#32
  | 98 => 0xB40D1360#32
  | 99 => 0x340A721F#32
  | 100 => 0xB407EDD1#32
  | 101 => 0x3405850C#32
  | 102 => 0xB403367C#32
  | 103 => 0x340100E3#32
  | 104 => 0xB3FDC62E#32
  | 105 => 0x33F9B800#32
  | 106 => 0xB3F5D532#32
  | 107 => 0x33F21BD6#32
  | 108 => 0xB3EE8A1F#32
  | 109 => 0x33EB1E5A#32
  | 110 => 0xB3E7D6EF#32
  | 111 => 0x33E4B25D#32
  | 112 => 0xB3E1AF3D#32
  | 113 => 0x33DECC38#32
  | 114 => 0xB3DC0810#32
  | 115 => 0x33D96196#32
  | 116 => 0xB3D6D7AE#32
  | 117 => 0x33D4694B#32
  | 118 => 0xB3D21572#32
  | 119 => 0x33CFDB34#32
  | 120 => 0xB3CDB9B1#32
  | 121 => 0x33CBB015#32
  | 122 => 0xB3C9BD97#32
  | 123 => 0x33C7E17D#32
  | 124 => 0xB3C61B15#32
  | 125 => 0x33C469B8#32
  | 126 => 0xB3C2CCC7#32
  | 127 => 0x33C143B0#32
  | _ => 0#32

noncomputable abbrev lit0t0_49 (i : Nat) : BitVec 32 := match i % 128 with
  | 0 => 0xB3BFCDE6#32
  | 1 => 0x33BE6AE7#32
  | 2 => 0xB3BD1A36#32
  | 3 => 0x33BBDB61#32
  | 4 => 0xB3BAADFB#32
  | 5 => 0x33B9919E#32
  | 6 => 0xB3B885EC#32
  | 7 => 0x33B78A8A#32
  | 8 => 0xB3B69F28#32
  | 9 => 0x33B5C377#32
  | 10 => 0xB3B4F732#32
  | 11 => 0x33B43A15#32
  | 12 => 0xB3B38BE5#32
  | 13 => 0x33B2EC6A#32
  | 14 => 0xB3B25B72#32
  | 15 => 0x33B1D8CF#32
  | 16 => 0xB3B16459#32
  | 17 => 0x33B0FDEA#32
  | 18 => 0xB3B0A563#32
  | 19 => 0x33B05AA9#32
  | 20 => 0xB3B01DA5#32
  | 21 => 0x33AFEE43#32
  | 22 => 0xB3AFCC75#32
  | 23 => 0x33AFB831#32
  | 24 => 0xB3AFB170#32
  | 25 => 0x33AFB831#32
  | 26 => 0xB3AFCC75#32
  | 27 => 0x33AFEE43#32
  | 28 => 0xB3B01DA5#32
  | 29 => 0x33B05AA9#32
  | 30 => 0xB3B0A563#32
  | 31 => 0x33B0FDEA#32
  | 32 => 0xB3B16459#32
  | 33 => 0x33B1D8CF#32
  | 34 => 0xB3B25B72#32
  | 35 => 0x33B2EC6A#32
  | 36 => 0xB3B38BE5#32
  | 37 => 0x33B43A15#32
  | 38 => 0xB3B4F732#32
  | 39 => 0x33B5C377#32
  | 40 => 0xB3B69F28#32
  | 41 => 0x33B78A8A#32
  | 42 => 0xB3B885EC#32
  | 43 => 0x33B9919E#32
  | 44 => 0xB3BAADFB#32
  | 45 => 0x33BBDB61#32
  | 46 => 0xB3BD1A36#32
  | 47 => 0x33BE6AE7#32
  | 48 => 0xB3BFCDE6#32
  | 49 => 0x33C143B0#32
  | 50 => 0xB3C2CCC7#32
  | 51 => 0x33C469B8#32
  | 52 => 0xB3C61B15#32
  | 53 => 0x33C7E17D#32
  | 54 => 0xB3C9BD97#32
  | 55 => 0x33CBB015#32
  | 56 => 0xB3CDB9B1#32
  | 57 => 0x33CFDB34#32
  | 58 => 0xB3D21572#32
  | 59 => 0x33D4694B#32
  | 60 => 0xB3D6D7AE#32
  | 61 => 0x33D96196#32
  | 62 => 0xB3DC0810#32
  | 63 => 0x33DECC38#32
  | 64 => 0xB3E1AF3D#32
  | 65 => 0x33E4B25D#32
  | 66 => 0xB3E7D6EF#32
  | 67 => 0x33EB1E5A#32
  | 68 => 0xB3EE8A1F#32
  | 69 => 0x33F21BD6#32
  | 70 => 0xB3F5D532#32
  | 71 => 0x33F9B800#32
  | 72 => 0xB3FDC62E#32
  | 73 => 0x340100E3#32
  | 74 => 0xB403367C#32
  | 75 => 0x3405850C#32
  | 76 => 0xB407EDD1#32
  | 77 => 0x340A721F#32
  | 78 => 0xB40D1360#32
  | 79 => 0x340FD31A#32
  | 80 => 0xB412B2ED#32
  | 81 => 0x3415B495#32
  | 82 => 0xB418D9F0#32
  | 83 => 0x341C2500#32
  | 84 => 0xB41F97EA#32
  | 85 => 0x342334FF#32
  | 86 => 0xB426FEBD#32
  | 87 => 0x342AF7D2#32
  | 88 => 0xB42F2322#32
  | 89 => 0x343383CC#32
  | 90 => 0xB4381D32#32
  | 91 => 0x343CF2FA#32
  | 92 => 0xB4420919#32
  | 93 => 0x344763DA#32
  | 94 => 0xB44D07E6#32
  | 95 => 0x3452FA51#32
  | 96 => 0xB45940A1#32
  | 97 => 0x345FE0DA#32
  | 98 => 0xB466E193#32
  | 99 => 0x346E49FF#32
  | 100 => 0xB4762200#32
  | 101 => 0x347E723F#32
  | 102 => 0xB483A221#32
  | 103 => 0x34885143#32
  | 104 => 0xB48D4C4D#32
  | 105 => 0x349299A5#32
  | 106 => 0xB4984061#32
  | 107 => 0x349E485F#32
  | 108 => 0xB4A4BA5F#32
  | 109 => 0x34ABA023#32
  | 110 => 0xB4B30492#32
  | 111 => 0x34BAF3E5#32
  | 112 => 0xB4C37BD6#32
  | 113 => 0x34CCABDA#32
  | 114 => 0xB4D69568#32
  | 115 => 0x34E14C49#32
  | 116 => 0xB4ECE6F7#32
  | 117 => 0x34F97F13#32
  | 118 => 0xB50398F7#32
  | 119 => 0x350B1097#32
  | 120 => 0xB51339CD#32
  | 121 => 0x351C2B08#32
  | 122 => 0xB525FE56#32
  | 123 => 0x3530D21D#32
  | 124 => 0xB53CCA00#32
  | 125 => 0x354A0FF9#32
  | 126 => 0xB558D5BB#32
  | 127 => 0x35695670#32
  | _ => 0#32

noncomputable abbrev lit0t0_50 (i : Nat) : BitVec 32 := match i % 128 with
  | 0 => 0x35695670#32
  | 1 => 0xB57BD8F1#32
  | 2 => 0x3588594C#32
  | 3 => 0xB5942572#32
  | 4 => 0x35A19018#32
  | 5 => 0xB5B0E6EF#32
  | 6 => 0x35C28A3B#32
  | 7 => 0xB5D6F23A#32
  | 8 => 0x35EEB658#32
  | 9 => 0xB6054B76#32
  | 10 => 0x3615C529#32
  | 11 => 0xB6296767#32
  | 12 => 0x3641014B#32
  | 13 => 0xB65DA20C#32
  | 14 => 0x368056F2#32
  | 15 => 0xB695FBC4#32
  | 16 => 0x36B0ED61#32
  | 17 => 0xB6D29E9B#32
  | 18 => 0x36FFBDB2#32
  | 19 => 0xB692EE32#32
  | 20 => 0x391EBB1A#32
  | 21 => 0x3B12D0DF#32
  | 22 => 0x3CA0086D#32
  | 23 => 0x3DBAD58B#32
  | 24 => 0x3E6BB748#32
  | 25 => 0x3EA069FE#32
  | 26 => 0x3E6BB748#32
  | 27 => 0x3DBAD58B#32
  | 28 => 0x3CA0086D#32
  | 29 => 0x3B12D0DF#32
  | 30 => 0x391EBB1A#32
  | 31 => 0xB692EE32#32
  | 32 => 0x36FFBDB2#32
  | 33 => 0xB6D29E9B#32
  | 34 => 0x36B0ED61#32
  | 35 => 0xB695FBC4#32
  | 36 => 0x368056F2#32
  | 37 => 0xB65DA20C#32
  | 38 => 0x3641014B#32
  | 39 => 0xB6296767#32
  | 40 => 0x3615C529#32
  | 41 => 0xB6054B76#32
  | 42 => 0x35EEB658#32
  | 43 => 0xB5D6F23A#32
  | 44 => 0x35C28A3B#32
  | 45 => 0xB5B0E6EF#32
  | 46 => 0x35A19018#32
  | 47 => 0xB5942572#32
  | 48 => 0x3588594C#32
  | 49 => 0xB57BD8F1#32
  | 50 => 0x35695670#32
  | 51 => 0xB558D5BB#32
  | 52 => 0x354A0FF9#32
  | 53 => 0xB53CCA00#32
  | 54 => 0x3530D21D#32
  | 55 => 0xB525FE56#32
  | 56 => 0x351C2B08#32
  | 57 => 0xB51339CD#32
  | 58 => 0x350B1097#32
  | 59 => 0xB50398F7#32
  | 60 => 0x34F97F13#32
  | 61 => 0xB4ECE6F7#32
  | 62 => 0x34E14C49#32
  | 63 => 0xB4D69568#32
  | 64 => 0x34CCABDA#32
  | 65 => 0xB4C37BD6#32
  | 66 => 0x34BAF3E5#32
  | 67 => 0xB4B30492#32
  | 68 => 0x34ABA023#32
  | 69 => 0xB4A4BA5F#32
  | 70 => 0x349E485F#32
  | 71 => 0xB4984061#32
  | 72 => 0x349299A5#32
  | 73 => 0xB48D4C4D#32
  | 74 => 0x34885143#32
  | 75 => 0xB483A221#32
  | 76 => 0x347E723F#32
  | 77 => 0xB4762200#32
  | 78 => 0x346E49FF#32
  | 79 => 0xB466E193#32
  | 80 => 0x345FE0DA#32
  | 81 => 0xB45940A1#32
  | 82 => 0x3452FA51#32
  | 83 => 0xB44D07E6#32
  | 84 => 0x344763DA#32
  | 85 => 0xB4420919#32
  | 86 => 0x343CF2FA#32
  | 87 => 0xB4381D32#32
  | 88 => 0x343383CC#32
  | 89 => 0xB42F2322#32
  | 90 => 0x342AF7D2#32
  | 91 => 0xB426FEBD#32
  | 92 => 0x342334FF#32
  | 93 => 0xB41F97EA#32
  | 94 => 0x341C2500#32
  | 95 => 0xB418D9F0#32
  | 96 => 0x3415B495#32
  | 97 => 0xB412B2ED#32
  | 98 => 0x340FD31A#32
  | 99 => 0xB40D1360#32
  | 100 => 0x340A721F#32
  | 101 => 0xB407EDD1#32
  | 102 => 0x3405850C#32
  | 103 => 0xB403367C#32
  | 104 => 0x340100E3#32
  | 105 => 0xB3FDC62E#32
  | 106 => 0x33F9B800#32
  | 107 => 0xB3F5D532#32
  | 108 => 0x33F21BD6#32
  | 109 => 0xB3EE8A1F#32
  | 110 => 0x33EB1E5A#32
  | 111 => 0xB3E7D6EF#32
  | 112 => 0x33E4B25D#32
  | 113 => 0xB3E1AF3D#32
  | 114 => 0x33DECC38#32
  | 115 => 0xB3DC0810#32
  | 116 => 0x33D96196#32
  | 117 => 0xB3D6D7AE#32
  | 118 => 0x33D4694B#32
  | 119 => 0xB3D21572#32
  | 120 => 0x33CFDB34#32
  | 121 => 0xB3CDB9B1#32
  | 122 => 0x33CBB015#32
  | 123 => 0xB3C9BD97#32
  | 124 => 0x33C7E17D#32
  | 125 => 0xB3C61B15#32
  | 126 => 0x33C469B8#32
  | 127 => 0xB3C2CCC7#32
  | _ => 0#32

noncomputable abbrev lit0t0_51 (i : Nat) : BitVec 32 := match i % 128 with
  | 0 => 0x33C143B0#32
  | 1 => 0xB3BFCDE6#32
  | 2 => 0x33BE6AE7#32
  | 3 => 0xB3BD1A36#32
  | 4 => 0x33BBDB61#32
  | 5 => 0xB3BAADFB#32
  | 6 => 0x33B9919E#32
  | 7 => 0xB3B885EC#32
  | 8 => 0x33B78A8A#32
  | 9 => 0xB3B69F28#32
  | 10 => 0x33B5C377#32
  | 11 => 0xB3B4F732#32
  | 12 => 0x33B43A15#32
  | 13 => 0xB3B38BE5#32
  | 14 => 0x33B2EC6A#32
  | 15 => 0xB3B25B72#32
  | 16 => 0x33B1D8CF#32
  | 17 => 0xB3B16459#32
  | 18 => 0x33B0FDEA#32
  | 19 => 0xB3B0A563#32
  | 20 => 0x33B05AA9#32
  | 21 => 0xB3B01DA5#32
  | 22 => 0x33AFEE43#32
  | 23 => 0xB3AFCC75#32
  | 24 => 0x33AFB831#32
  | 25 => 0xB3AFB170#32
  | 26 => 0x33AFB831#32
  | 27 => 0xB3AFCC75#32
  | 28 => 0x33AFEE43#32
  | 29 => 0xB3B01DA5#32
  | 30 => 0x33B05AA9#32
  | 31 => 0xB3B0A563#32
  | 32 => 0x33B0FDEA#32
  | 33 => 0xB3B16459#32
  | 34 => 0x33B1D8CF#32
  | 35 => 0xB3B25B72#32
  | 36 => 0x33B2EC6A#32
  | 37 => 0xB3B38BE5#32
  | 38 => 0x33B43A15#32
  | 39 => 0xB3B4F732#32
  | 40 => 0x33B5C377#32
  | 41 => 0xB3B69F28#32
  | 42 => 0x33B78A8A#32
  | 43 => 0xB3B885EC#32
  | 44 => 0x33B9919E#32
  | 45 => 0xB3BAADFB#32
  | 46 => 0x33BBDB61#32
  | 47 => 0xB3BD1A36#32
  | 48 => 0x33BE6AE7#32
  | 49 => 0xB3BFCDE6#32
  | 50 => 0x33C143B0#32
  | 51 => 0xB3C2CCC7#32
  | 52 => 0x33C469B8#32
  | 53 => 0xB3C61B15#32
  | 54 => 0x33C7E17D#32
  | 55 => 0xB3C9BD97#32
  | 56 => 0x33CBB015#32
  | 57 => 0xB3CDB9B1#32
  | 58 => 0x33CFDB34#32
  | 59 => 0xB3D21572#32
  | 60 => 0x33D4694B#32
  | 61 => 0xB3D6D7AE#32
  | 62 => 0x33D96196#32
  | 63 => 0xB3DC0810#32
  | 64 => 0x33DECC38#32
  | 65 => 0xB3E1AF3D#32
  | 66 => 0x33E4B25D#32
  | 67 => 0xB3E7D6EF#32
  | 68 => 0x33EB1E5A#32
  | 69 => 0xB3EE8A1F#32
  | 70 => 0x33F21BD6#32
  | 71 => 0xB3F5D532#32
  | 72 => 0x33F9B800#32
  | 73 => 0xB3FDC62E#32
  | 74 => 0x340100E3#32
  | 75 => 0xB403367C#32
  | 76 => 0x3405850C#32
  | 77 => 0xB407EDD1#32
  | 78 => 0x340A721F#32
  | 79 => 0xB40D1360#32
  | 80 => 0x340FD31A#32
  | 81 => 0xB412B2ED#32
  | 82 => 0x3415B495#32
  | 83 => 0xB418D9F0#32
  | 84 => 0x341C2500#32
  | 85 => 0xB41F97EA#32
  | 86 => 0x342334FF#32
  | 87 => 0xB426FEBD#32
  | 88 => 0x342AF7D2#32
  | 89 => 0xB42F2322#32
  | 90 => 0x343383CC#32
  | 91 => 0xB4381D32#32
  | 92 => 0x343CF2FA#32
  | 93 => 0xB4420919#32
  | 94 => 0x344763DA#32
  | 95 => 0xB44D07E6#32
  | 96 => 0x3452FA51#32
  | 97 => 0xB45940A1#32
  | 98 => 0x345FE0DA#32
  | 99 => 0xB466E193#32
  | 100 => 0x346E49FF#32
  | 101 => 0xB4762200#32
  | 102 => 0x347E723F#32
  | 103 => 0xB483A221#32
  | 104 => 0x34885143#32
  | 105 => 0xB48D4C4D#32
  | 106 => 0x349299A5#32
  | 107 => 0xB4984061#32
  | 108 => 0x349E485F#32
  | 109 => 0xB4A4BA5F#32
  | 110 => 0x34ABA023#32
  | 111 => 0xB4B30492#32
  | 112 => 0x34BAF3E5#32
  | 113 => 0xB4C37BD6#32
  | 114 => 0x34CCABDA#32
  | 115 => 0xB4D69568#32
  | 116 => 0x34E14C49#32
  | 117 => 0xB4ECE6F7#32
  | 118 => 0x34F97F13#32
  | 119 => 0xB50398F7#32
  | 120 => 0x350B1097#32
  | 121 => 0xB51339CD#32
  | 122 => 0x351C2B08#32
  | 123 => 0xB525FE56#32
  | 124 => 0x3530D21D#32
  | 125 => 0xB53CCA00#32
  | 126 => 0x354A0FF9#32
  | 127 => 0xB558D5BB#32
  | _ => 0#32

noncomputable abbrev lit0t0_52 (i : Nat) : BitVec 32 := match i % 128 with
  | 0 => 0xB558D5BB#32
  | 1 => 0x35695670#32
  | 2 => 0xB57BD8F1#32
  | 3 => 0x3588594C#32
  | 4 => 0xB5942572#32
  | 5 => 0x35A19018#32
  | 6 => 0xB5B0E6EF#32
  | 7 => 0x35C28A3B#32
  | 8 => 0xB5D6F23A#32
  | 9 => 0x35EEB658#32
  | 10 => 0xB6054B76#32
  | 11 => 0x3615C529#32
  | 12 => 0xB6296767#32
  | 13 => 0x3641014B#32
  | 14 => 0xB65DA20C#32
  | 15 => 0x368056F2#32
  | 16 => 0xB695FBC4#32
  | 17 => 0x36B0ED61#32
  | 18 => 0xB6D29E9B#32
  | 19 => 0x36FFBDB2#32
  | 20 => 0xB692EE32#32
  | 21 => 0x391EBB1A#32
  | 22 => 0x3B12D0DF#32
  | 23 => 0x3CA0086D#32
  | 24 => 0x3DBAD58B#32
  | 25 => 0x3E6BB748#32
  | 26 => 0x3EA069FE#32
  | 27 => 0x3E6BB748#32
  | 28 => 0x3DBAD58B#32
  | 29 => 0x3CA0086D#32
  | 30 => 0x3B12D0DF#32
  | 31 => 0x391EBB1A#32
  | 32 => 0xB692EE32#32
  | 33 => 0x36FFBDB2#32
  | 34 => 0xB6D29E9B#32
  | 35 => 0x36B0ED61#32
  | 36 => 0xB695FBC4#32
  | 37 => 0x368056F2#32
  | 38 => 0xB65DA20C#32
  | 39 => 0x3641014B#32
  | 40 => 0xB6296767#32
  | 41 => 0x3615C529#32
  | 42 => 0xB6054B76#32
  | 43 => 0x35EEB658#32
  | 44 => 0xB5D6F23A#32
  | 45 => 0x35C28A3B#32
  | 46 => 0xB5B0E6EF#32
  | 47 => 0x35A19018#32
  | 48 => 0xB5942572#32
  | 49 => 0x3588594C#32
  | 50 => 0xB57BD8F1#32
  | 51 => 0x35695670#32
  | 52 => 0xB558D5BB#32
  | 53 => 0x354A0FF9#32
  | 54 => 0xB53CCA00#32
  | 55 => 0x3530D21D#32
  | 56 => 0xB525FE56#32
  | 57 => 0x351C2B08#32
  | 58 => 0xB51339CD#32
  | 59 => 0x350B1097#32
  | 60 => 0xB50398F7#32
  | 61 => 0x34F97F13#32
  | 62 => 0xB4ECE6F7#32
  | 63 => 0x34E14C49#32
  | 64 => 0xB4D69568#32
  | 65 => 0x34CCABDA#32
  | 66 => 0xB4C37BD6#32
  | 67 => 0x34BAF3E5#32
  | 68 => 0xB4B30492#32
  | 69 => 0x34ABA023#32
  | 70 => 0xB4A4BA5F#32
  | 71 => 0x349E485F#32
  | 72 => 0xB4984061#32
  | 73 => 0x349299A5#32
  | 74 => 0xB48D4C4D#32
  | 75 => 0x34885143#32
  | 76 => 0xB483A221#32
  | 77 => 0x347E723F#32
  | 78 => 0xB4762200#32
  | 79 => 0x346E49FF#32
  | 80 => 0xB466E193#32
  | 81 => 0x345FE0DA#32
  | 82 => 0xB45940A1#32
  | 83 => 0x3452FA51#32
  | 84 => 0xB44D07E6#32
  | 85 => 0x344763DA#32
  | 86 => 0xB4420919#32
  | 87 => 0x343CF2FA#32
  | 88 => 0xB4381D32#32
  | 89 => 0x343383CC#32
  | 90 => 0xB42F2322#32
  | 91 => 0x342AF7D2#32
  | 92 => 0xB426FEBD#32
  | 93 => 0x342334FF#32
  | 94 => 0xB41F97EA#32
  | 95 => 0x341C2500#32
  | 96 => 0xB418D9F0#32
  | 97 => 0x3415B495#32
  | 98 => 0xB412B2ED#32
  | 99 => 0x340FD31A#32
  | 100 => 0xB40D1360#32
  | 101 => 0x340A721F#32
  | 102 => 0xB407EDD1#32
  | 103 => 0x3405850C#32
  | 104 => 0xB403367C#32
  | 105 => 0x340100E3#32
  | 106 => 0xB3FDC62E#32
  | 107 => 0x33F9B800#32
  | 108 => 0xB3F5D532#32
  | 109 => 0x33F21BD6#32
  | 110 => 0xB3EE8A1F#32
  | 111 => 0x33EB1E5A#32
  | 112 => 0xB3E7D6EF#32
  | 113 => 0x33E4B25D#32
  | 114 => 0xB3E1AF3D#32
  | 115 => 0x33DECC38#32
  | 116 => 0xB3DC0810#32
  | 117 => 0x33D96196#32
  | 118 => 0xB3D6D7AE#32
  | 119 => 0x33D4694B#32
  | 120 => 0xB3D21572#32
  | 121 => 0x33CFDB34#32
  | 122 => 0xB3CDB9B1#32
  | 123 => 0x33CBB015#32
  | 124 => 0xB3C9BD97#32
  | 125 => 0x33C7E17D#32
  | 126 => 0xB3C61B15#32
  | 127 => 0x33C469B8#32
  | _ => 0#32

noncomputable abbrev lit0t0_53 (i : Nat) : BitVec 32 := match i % 128 with
  | 0 => 0xB3C2CCC7#32
  | 1 => 0x33C143B0#32
  | 2 => 0xB3BFCDE6#32
  | 3 => 0x33BE6AE7#32
  | 4 => 0xB3BD1A36#32
  | 5 => 0x33BBDB61#32
  | 6 => 0xB3BAADFB#32
  | 7 => 0x33B9919E#32
  | 8 => 0xB3B885EC#32
  | 9 => 0x33B78A8A#32
  | 10 => 0xB3B69F28#32
  | 11 => 0x33B5C377#32
  | 12 => 0xB3B4F732#32
  | 13 => 0x33B43A15#32
  | 14 => 0xB3B38BE5#32
  | 15 => 0x33B2EC6A#32
  | 16 => 0xB3B25B72#32
  | 17 => 0x33B1D8CF#32
  | 18 => 0xB3B16459#32
  | 19 => 0x33B0FDEA#32
  | 20 => 0xB3B0A563#32
  | 21 => 0x33B05AA9#32
  | 22 => 0xB3B01DA5#32
  | 23 => 0x33AFEE43#32
  | 24 => 0xB3AFCC75#32
  | 25 => 0x33AFB831#32
  | 26 => 0xB3AFB170#32
  | 27 => 0x33AFB831#32
  | 28 => 0xB3AFCC75#32
  | 29 => 0x33AFEE43#32
  | 30 => 0xB3B01DA5#32
  | 31 => 0x33B05AA9#32
  | 32 => 0xB3B0A563#32
  | 33 => 0x33B0FDEA#32
  | 34 => 0xB3B16459#32
  | 35 => 0x33B1D8CF#32
  | 36 => 0xB3B25B72#32
  | 37 => 0x33B2EC6A#32
  | 38 => 0xB3B38BE5#32
  | 39 => 0x33B43A15#32
  | 40 => 0xB3B4F732#32
  | 41 => 0x33B5C377#32
  | 42 => 0xB3B69F28#32
  | 43 => 0x33B78A8A#32
  | 44 => 0xB3B885EC#32
  | 45 => 0x33B9919E#32
  | 46 => 0xB3BAADFB#32
  | 47 => 0x33BBDB61#32
  | 48 => 0xB3BD1A36#32
  | 49 => 0x33BE6AE7#32
  | 50 => 0xB3BFCDE6#32
  | 51 => 0x33C143B0#32
  | 52 => 0xB3C2CCC7#32
  | 53 => 0x33C469B8#32
  | 54 => 0xB3C61B15#32
  | 55 => 0x33C7E17D#32
  | 56 => 0xB3C9BD97#32
  | 57 => 0x33CBB015#32
  | 58 => 0xB3CDB9B1#32
  | 59 => 0x33CFDB34#32
  | 60 => 0xB3D21572#32
  | 61 => 0x33D4694B#32
  | 62 => 0xB3D6D7AE#32
  | 63 => 0x33D96196#32
  | 64 => 0xB3DC0810#32
  | 65 => 0x33DECC38#32
  | 66 => 0xB3E1AF3D#32
  | 67 => 0x33E4B25D#32
  | 68 => 0xB3E7D6EF#32
  | 69 => 0x33EB1E5A#32
  | 70 => 0xB3EE8A1F#32
  | 71 => 0x33F21BD6#32
  | 72 => 0xB3F5D532#32
  | 73 => 0x33F9B800#32
  | 74 => 0xB3FDC62E#32
  | 75 => 0x340100E3#32
  | 76 => 0xB403367C#32
  | 77 => 0x3405850C#32
  | 78 => 0xB407EDD1#32
  | 79 => 0x340A721F#32
  | 80 => 0xB40D1360#32
  | 81 => 0x340FD31A#32
  | 82 => 0xB412B2ED#32
  | 83 => 0x3415B495#32
  | 84 => 0xB418D9F0#32
  | 85 => 0x341C2500#32
  | 86 => 0xB41F97EA#32
  | 87 => 0x342334FF#32
  | 88 => 0xB426FEBD#32
  | 89 => 0x342AF7D2#32
  | 90 => 0xB42F2322#32
  | 91 => 0x343383CC#32
  | 92 => 0xB4381D32#32
  | 93 => 0x343CF2FA#32
  | 94 => 0xB4420919#32
  | 95 => 0x344763DA#32
  | 96 => 0xB44D07E6#32
  | 97 => 0x3452FA51#32
  | 98 => 0xB45940A1#32
  | 99 => 0x345FE0DA#32
  | 100 => 0xB466E193#32
  | 101 => 0x346E49FF#32
  | 102 => 0xB4762200#32
  | 103 => 0x347E723F#32
  | 104 => 0xB483A221#32
  | 105 => 0x34885143#32
  | 106 => 0xB48D4C4D#32
  | 107 => 0x349299A5#32
  | 108 => 0xB4984061#32
  | 109 => 0x349E485F#32
  | 110 => 0xB4A4BA5F#32
  | 111 => 0x34ABA023#32
  | 112 => 0xB4B30492#32
  | 113 => 0x34BAF3E5#32
  | 114 => 0xB4C37BD6#32
  | 115 => 0x34CCABDA#32
  | 116 => 0xB4D69568#32
  | 117 => 0x34E14C49#32
  | 118 => 0xB4ECE6F7#32
  | 119 => 0x34F97F13#32
  | 120 => 0xB50398F7#32
  | 121 => 0x350B1097#32
  | 122 => 0xB51339CD#32
  | 123 => 0x351C2B08#32
  | 124 => 0xB525FE56#32
  | 125 => 0x3530D21D#32
  | 126 => 0xB53CCA00#32
  | 127 => 0x354A0FF9#32
  | _ => 0#32

noncomputable abbrev lit0t0_54 (i : Nat) : BitVec 32 := match i % 128 with
  | 0 => 0x354A0FF9#32
  | 1 => 0xB558D5BB#32
  | 2 => 0x35695670#32
  | 3 => 0xB57BD8F1#32
  | 4 => 0x3588594C#32
  | 5 => 0xB5942572#32
  | 6 => 0x35A19018#32
  | 7 => 0xB5B0E6EF#32
  | 8 => 0x35C28A3B#32
  | 9 => 0xB5D6F23A#32
  | 10 => 0x35EEB658#32
  | 11 => 0xB6054B76#32
  | 12 => 0x3615C529#32
  | 13 => 0xB6296767#32
  | 14 => 0x3641014B#32
  | 15 => 0xB65DA20C#32
  | 16 => 0x368056F2#32
  | 17 => 0xB695FBC4#32
  | 18 => 0x36B0ED61#32
  | 19 => 0xB6D29E9B#32
  | 20 => 0x36FFBDB2#32
  | 21 => 0xB692EE32#32
  | 22 => 0x391EBB1A#32
  | 23 => 0x3B12D0DF#32
  | 24 => 0x3CA0086D#32
  | 25 => 0x3DBAD58B#32
  | 26 => 0x3E6BB748#32
  | 27 => 0x3EA069FE#32
  | 28 => 0x3E6BB748#32
  | 29 => 0x3DBAD58B#32
  | 30 => 0x3CA0086D#32
  | 31 => 0x3B12D0DF#32
  | 32 => 0x391EBB1A#32
  | 33 => 0xB692EE32#32
  | 34 => 0x36FFBDB2#32
  | 35 => 0xB6D29E9B#32
  | 36 => 0x36B0ED61#32
  | 37 => 0xB695FBC4#32
  | 38 => 0x368056F2#32
  | 39 => 0xB65DA20C#32
  | 40 => 0x3641014B#32
  | 41 => 0xB6296767#32
  | 42 => 0x3615C529#32
  | 43 => 0xB6054B76#32
  | 44 => 0x35EEB658#32
  | 45 => 0xB5D6F23A#32
  | 46 => 0x35C28A3B#32
  | 47 => 0xB5B0E6EF#32
  | 48 => 0x35A19018#32
  | 49 => 0xB5942572#32
  | 50 => 0x3588594C#32
  | 51 => 0xB57BD8F1#32
  | 52 => 0x35695670#32
  | 53 => 0xB558D5BB#32
  | 54 => 0x354A0FF9#32
  | 55 => 0xB53CCA00#32
  | 56 => 0x3530D21D#32
  | 57 => 0xB525FE56#32
  | 58 => 0x351C2B08#32
  | 59 => 0xB51339CD#32
  | 60 => 0x350B1097#32
  | 61 => 0xB50398F7#32
  | 62 => 0x34F97F13#32
  | 63 => 0xB4ECE6F7#32
  | 64 => 0x34E14C49#32
  | 65 => 0xB4D69568#32
  | 66 => 0x34CCABDA#32
  | 67 => 0xB4C37BD6#32
  | 68 => 0x34BAF3E5#32
  | 69 => 0xB4B30492#32
  | 70 => 0x34ABA023#32
  | 71 => 0xB4A4BA5F#32
  | 72 => 0x349E485F#32
  | 73 => 0xB4984061#32
  | 74 => 0x349299A5#32
  | 75 => 0xB48D4C4D#32
  | 76 => 0x34885143#32
  | 77 => 0xB483A221#32
  | 78 => 0x347E723F#32
  | 79 => 0xB4762200#32
  | 80 => 0x346E49FF#32
  | 81 => 0xB466E193#32
  | 82 => 0x345FE0DA#32
  | 83 => 0xB45940A1#32
  | 84 => 0x3452FA51#32
  | 85 => 0xB44D07E6#32
  | 86 => 0x344763DA#32
  | 87 => 0xB4420919#32
  | 88 => 0x343CF2FA#32
  | 89 => 0xB4381D32#32
  | 90 => 0x343383CC#32
  | 91 => 0xB42F2322#32
  | 92 => 0x342AF7D2#32
  | 93 => 0xB426FEBD#32
  | 94 => 0x342334FF#32
  | 95 => 0xB41F97EA#32
  | 96 => 0x341C2500#32
  | 97 => 0xB418D9F0#32
  | 98 => 0x3415B495#32
  | 99 => 0xB412B2ED#32
  | 100 => 0x340FD31A#32
  | 101 => 0xB40D1360#32
  | 102 => 0x340A721F#32
  | 103 => 0xB407EDD1#32
  | 104 => 0x3405850C#32
  | 105 => 0xB403367C#32
  | 106 => 0x340100E3#32
  | 107 => 0xB3FDC62E#32
  | 108 => 0x33F9B800#32
  | 109 => 0xB3F5D532#32
  | 110 => 0x33F21BD6#32
  | 111 => 0xB3EE8A1F#32
  | 112 => 0x33EB1E5A#32
  | 113 => 0xB3E7D6EF#32
  | 114 => 0x33E4B25D#32
  | 115 => 0xB3E1AF3D#32
  | 116 => 0x33DECC38#32
  | 117 => 0xB3DC0810#32
  | 118 => 0x33D96196#32
  | 119 => 0xB3D6D7AE#32
  | 120 => 0x33D4694B#32
  | 121 => 0xB3D21572#32
  | 122 => 0x33CFDB34#32
  | 123 => 0xB3CDB9B1#32
  | 124 => 0x33CBB015#32
  | 125 => 0xB3C9BD97#32
  | 126 => 0x33C7E17D#32
  | 127 => 0xB3C61B15#32
  | _ => 0#32

noncomputable abbrev lit0t0_55 (i : Nat) : BitVec 32 := match i % 128 with
  | 0 => 0x33C469B8#32
  | 1 => 0xB3C2CCC7#32
  | 2 => 0x33C143B0#32
  | 3 => 0xB3BFCDE6#32
  | 4 => 0x33BE6AE7#32
  | 5 => 0xB3BD1A36#32
  | 6 => 0x33BBDB61#32
  | 7 => 0xB3BAADFB#32
  | 8 => 0x33B9919E#32
  | 9 => 0xB3B885EC#32
  | 10 => 0x33B78A8A#32
  | 11 => 0xB3B69F28#32
  | 12 => 0x33B5C377#32
  | 13 => 0xB3B4F732#32
  | 14 => 0x33B43A15#32
  | 15 => 0xB3B38BE5#32
  | 16 => 0x33B2EC6A#32
  | 17 => 0xB3B25B72#32
  | 18 => 0x33B1D8CF#32
  | 19 => 0xB3B16459#32
  | 20 => 0x33B0FDEA#32
  | 21 => 0xB3B0A563#32
  | 22 => 0x33B05AA9#32
  | 23 => 0xB3B01DA5#32
  | 24 => 0x33AFEE43#32
  | 25 => 0xB3AFCC75#32
  | 26 => 0x33AFB831#32
  | 27 => 0xB3AFB170#32
  | 28 => 0x33AFB831#32
  | 29 => 0xB3AFCC75#32
  | 30 => 0x33AFEE43#32
  | 31 => 0xB3B01DA5#32
  | 32 => 0x33B05AA9#32
  | 33 => 0xB3B0A563#32
  | 34 => 0x33B0FDEA#32
  | 35 => 0xB3B16459#32
  | 36 => 0x33B1D8CF#32
  | 37 => 0xB3B25B72#32
  | 38 => 0x33B2EC6A#32
  | 39 => 0xB3B38BE5#32
  | 40 => 0x33B43A15#32
  | 41 => 0xB3B4F732#32
  | 42 => 0x33B5C377#32
  | 43 => 0xB3B69F28#32
  | 44 => 0x33B78A8A#32
  | 45 => 0xB3B885EC#32
  | 46 => 0x33B9919E#32
  | 47 => 0xB3BAADFB#32
  | 48 => 0x33BBDB61#32
  | 49 => 0xB3BD1A36#32
  | 50 => 0x33BE6AE7#32
  | 51 => 0xB3BFCDE6#32
  | 52 => 0x33C143B0#32
  | 53 => 0xB3C2CCC7#32
  | 54 => 0x33C469B8#32
  | 55 => 0xB3C61B15#32
  | 56 => 0x33C7E17D#32
  | 57 => 0xB3C9BD97#32
  | 58 => 0x33CBB015#32
  | 59 => 0xB3CDB9B1#32
  | 60 => 0x33CFDB34#32
  | 61 => 0xB3D21572#32
  | 62 => 0x33D4694B#32
  | 63 => 0xB3D6D7AE#32
  | 64 => 0x33D96196#32
  | 65 => 0xB3DC0810#32
  | 66 => 0x33DECC38#32
  | 67 => 0xB3E1AF3D#32
  | 68 => 0x33E4B25D#32
  | 69 => 0xB3E7D6EF#32
  | 70 => 0x33EB1E5A#32
  | 71 => 0xB3EE8A1F#32
  | 72 => 0x33F21BD6#32
  | 73 => 0xB3F5D532#32
  | 74 => 0x33F9B800#32
  | 75 => 0xB3FDC62E#32
  | 76 => 0x340100E3#32
  | 77 => 0xB403367C#32
  | 78 => 0x3405850C#32
  | 79 => 0xB407EDD1#32
  | 80 => 0x340A721F#32
  | 81 => 0xB40D1360#32
  | 82 => 0x340FD31A#32
  | 83 => 0xB412B2ED#32
  | 84 => 0x3415B495#32
  | 85 => 0xB418D9F0#32
  | 86 => 0x341C2500#32
  | 87 => 0xB41F97EA#32
  | 88 => 0x342334FF#32
  | 89 => 0xB426FEBD#32
  | 90 => 0x342AF7D2#32
  | 91 => 0xB42F2322#32
  | 92 => 0x343383CC#32
  | 93 => 0xB4381D32#32
  | 94 => 0x343CF2FA#32
  | 95 => 0xB4420919#32
  | 96 => 0x344763DA#32
  | 97 => 0xB44D07E6#32
  | 98 => 0x3452FA51#32
  | 99 => 0xB45940A1#32
  | 100 => 0x345FE0DA#32
  | 101 => 0xB466E193#32
  | 102 => 0x346E49FF#32
  | 103 => 0xB4762200#32
  | 104 => 0x347E723F#32
  | 105 => 0xB483A221#32
  | 106 => 0x34885143#32
  | 107 => 0xB48D4C4D#32
  | 108 => 0x349299A5#32
  | 109 => 0xB4984061#32
  | 110 => 0x349E485F#32
  | 111 => 0xB4A4BA5F#32
  | 112 => 0x34ABA023#32
  | 113 => 0xB4B30492#32
  | 114 => 0x34BAF3E5#32
  | 115 => 0xB4C37BD6#32
  | 116 => 0x34CCABDA#32
  | 117 => 0xB4D69568#32
  | 118 => 0x34E14C49#32
  | 119 => 0xB4ECE6F7#32
  | 120 => 0x34F97F13#32
  | 121 => 0xB50398F7#32
  | 122 => 0x350B1097#32
  | 123 => 0xB51339CD#32
  | 124 => 0x351C2B08#32
  | 125 => 0xB525FE56#32
  | 126 => 0x3530D21D#32
  | 127 => 0xB53CCA00#32
  | _ => 0#32

noncomputable abbrev lit0t0_56 (i : Nat) : BitVec 32 := match i % 128 with
  | 0 => 0xB53CCA00#32
  | 1 => 0x354A0FF9#32
  | 2 => 0xB558D5BB#32
  | 3 => 0x35695670#32
  | 4 => 0xB57BD8F1#32
  | 5 => 0x3588594C#32
  | 6 => 0xB5942572#32
  | 7 => 0x35A19018#32
  | 8 => 0xB5B0E6EF#32
  | 9 => 0x35C28A3B#32
  | 10 => 0xB5D6F23A#32
  | 11 => 0x35EEB658#32
  | 12 => 0xB6054B76#32
  | 13 => 0x3615C529#32
  | 14 => 0xB6296767#32
  | 15 => 0x3641014B#32
  | 16 => 0xB65DA20C#32
  | 17 => 0x368056F2#32
  | 18 => 0xB695FBC4#32
  | 19 => 0x36B0ED61#32
  | 20 => 0xB6D29E9B#32
  | 21 => 0x36FFBDB2#32
  | 22 => 0xB692EE32#32
  | 23 => 0x391EBB1A#32
  | 24 => 0x3B12D0DF#32
  | 25 => 0x3CA0086D#32
  | 26 => 0x3DBAD58B#32
  | 27 => 0x3E6BB748#32
  | 28 => 0x3EA069FE#32
  | 29 => 0x3E6BB748#32
  | 30 => 0x3DBAD58B#32
  | 31 => 0x3CA0086D#32
  | 32 => 0x3B12D0DF#32
  | 33 => 0x391EBB1A#32
  | 34 => 0xB692EE32#32
  | 35 => 0x36FFBDB2#32
  | 36 => 0xB6D29E9B#32
  | 37 => 0x36B0ED61#32
  | 38 => 0xB695FBC4#32
  | 39 => 0x368056F2#32
  | 40 => 0xB65DA20C#32
  | 41 => 0x3641014B#32
  | 42 => 0xB6296767#32
  | 43 => 0x3615C529#32
  | 44 => 0xB6054B76#32
  | 45 => 0x35EEB658#32
  | 46 => 0xB5D6F23A#32
  | 47 => 0x35C28A3B#32
  | 48 => 0xB5B0E6EF#32
  | 49 => 0x35A19018#32
  | 50 => 0xB5942572#32
  | 51 => 0x3588594C#32
  | 52 => 0xB57BD8F1#32
  | 53 => 0x35695670#32
  | 54 => 0xB558D5BB#32
  | 55 => 0x354A0FF9#32
  | 56 => 0xB53CCA00#32
  | 57 => 0x3530D21D#32
  | 58 => 0xB525FE56#32
  | 59 => 0x351C2B08#32
  | 60 => 0xB51339CD#32
  | 61 => 0x350B1097#32
  | 62 => 0xB50398F7#32
  | 63 => 0x34F97F13#32
  | 64 => 0xB4ECE6F7#32
  | 65 => 0x34E14C49#32
  | 66 => 0xB4D69568#32
  | 67 => 0x34CCABDA#32
  | 68 => 0xB4C37BD6#32
  | 69 => 0x34BAF3E5#32
  | 70 => 0xB4B30492#32
  | 71 => 0x34ABA023#32
  | 72 => 0xB4A4BA5F#32
  | 73 => 0x349E485F#32
  | 74 => 0xB4984061#32
  | 75 => 0x349299A5#32
  | 76 => 0xB48D4C4D#32
  | 77 => 0x34885142#32
  | 78 => 0xB483A221#32
  | 79 => 0x347E723F#32
  | 80 => 0xB4762200#32
  | 81 => 0x346E49FF#32
  | 82 => 0xB466E193#32
  | 83 => 0x345FE0DA#32
  | 84 => 0xB45940A1#32
  | 85 => 0x3452FA51#32
  | 86 => 0xB44D07E6#32
  | 87 => 0x344763DA#32
  | 88 => 0xB4420919#32
  | 89 => 0x343CF2FA#32
  | 90 => 0xB4381D32#32
  | 91 => 0x343383CC#32
  | 92 => 0xB42F2322#32
  | 93 => 0x342AF7D2#32
  | 94 => 0xB426FEBD#32
  | 95 => 0x342334FF#32
  | 96 => 0xB41F97EA#32
  | 97 => 0x341C2500#32
  | 98 => 0xB418D9F0#32
  | 99 => 0x3415B495#32
  | 100 => 0xB412B2ED#32
  | 101 => 0x340FD31A#32
  | 102 => 0xB40D1360#32
  | 103 => 0x340A721F#32
  | 104 => 0xB407EDD1#32
  | 105 => 0x3405850C#32
  | 106 => 0xB403367C#32
  | 107 => 0x340100E3#32
  | 108 => 0xB3FDC62E#32
  | 109 => 0x33F9B800#32
  | 110 => 0xB3F5D532#32
  | 111 => 0x33F21BD6#32
  | 112 => 0xB3EE8A1F#32
  | 113 => 0x33EB1E5A#32
  | 114 => 0xB3E7D6EF#32
  | 115 => 0x33E4B25D#32
  | 116 => 0xB3E1AF3D#32
  | 117 => 0x33DECC38#32
  | 118 => 0xB3DC0810#32
  | 119 => 0x33D96196#32
  | 120 => 0xB3D6D7AE#32
  | 121 => 0x33D4694B#32
  | 122 => 0xB3D21572#32
  | 123 => 0x33CFDB34#32
  | 124 => 0xB3CDB9B1#32
  | 125 => 0x33CBB015#32
  | 126 => 0xB3C9BD97#32
  | 127 => 0x33C7E17D#32
  | _ => 0#32

noncomputable abbrev lit0t0_57 (i : Nat) : BitVec 32 := match i % 128 with
  | 0 => 0xB3C61B15#32
  | 1 => 0x33C469B8#32
  | 2 => 0xB3C2CCC7#32
  | 3 => 0x33C143B0#32
  | 4 => 0xB3BFCDE6#32
  | 5 => 0x33BE6AE7#32
  | 6 => 0xB3BD1A36#32
  | 7 => 0x33BBDB61#32
  | 8 => 0xB3BAADFB#32
  | 9 => 0x33B9919E#32
  | 10 => 0xB3B885EC#32
  | 11 => 0x33B78A8A#32
  | 12 => 0xB3B69F28#32
  | 13 => 0x33B5C377#32
  | 14 => 0xB3B4F732#32
  | 15 => 0x33B43A15#32
  | 16 => 0xB3B38BE5#32
  | 17 => 0x33B2EC6A#32
  | 18 => 0xB3B25B72#32
  | 19 => 0x33B1D8CF#32
  | 20 => 0xB3B16459#32
  | 21 => 0x33B0FDEA#32
  | 22 => 0xB3B0A563#32
  | 23 => 0x33B05AA9#32
  | 24 => 0xB3B01DA5#32
  | 25 => 0x33AFEE43#32
  | 26 => 0xB3AFCC75#32
  | 27 => 0x33AFB831#32
  | 28 => 0xB3AFB170#32
  | 29 => 0x33AFB831#32
  | 30 => 0xB3AFCC75#32
  | 31 => 0x33AFEE43#32
  | 32 => 0xB3B01DA5#32
  | 33 => 0x33B05AA9#32
  | 34 => 0xB3B0A563#32
  | 35 => 0x33B0FDEA#32
  | 36 => 0xB3B16459#32
  | 37 => 0x33B1D8CF#32
  | 38 => 0xB3B25B72#32
  | 39 => 0x33B2EC6A#32
  | 40 => 0xB3B38BE5#32
  | 41 => 0x33B43A15#32
  | 42 => 0xB3B4F732#32
  | 43 => 0x33B5C377#32
  | 44 => 0xB3B69F28#32
  | 45 => 0x33B78A8A#32
  | 46 => 0xB3B885EC#32
  | 47 => 0x33B9919E#32
  | 48 => 0xB3BAADFB#32
  | 49 => 0x33BBDB61#32
  | 50 => 0xB3BD1A36#32
  | 51 => 0x33BE6AE7#32
  | 52 => 0xB3BFCDE6#32
  | 53 => 0x33C143B0#32
  | 54 => 0xB3C2CCC7#32
  | 55 => 0x33C469B8#32
  | 56 => 0xB3C61B15#32
  | 57 => 0x33C7E17D#32
  | 58 => 0xB3C9BD97#32
  | 59 => 0x33CBB015#32
  | 60 => 0xB3CDB9B1#32
  | 61 => 0x33CFDB34#32
  | 62 => 0xB3D21572#32
  | 63 => 0x33D4694B#32
  | 64 => 0xB3D6D7AE#32
  | 65 => 0x33D96196#32
  | 66 => 0xB3DC0810#32
  | 67 => 0x33DECC38#32
  | 68 => 0xB3E1AF3D#32
  | 69 => 0x33E4B25D#32
  | 70 => 0xB3E7D6EF#32
  | 71 => 0x33EB1E5A#32
  | 72 => 0xB3EE8A1F#32
  | 73 => 0x33F21BD6#32
  | 74 => 0xB3F5D532#32
  | 75 => 0x33F9B800#32
  | 76 => 0xB3FDC62E#32
  | 77 => 0x340100E3#32
  | 78 => 0xB403367C#32
  | 79 => 0x3405850C#32
  | 80 => 0xB407EDD1#32
  | 81 => 0x340A721F#32
  | 82 => 0xB40D1360#32
  | 83 => 0x340FD31A#32
  | 84 => 0xB412B2ED#32
  | 85 => 0x3415B495#32
  | 86 => 0xB418D9F0#32
  | 87 => 0x341C2500#32
  | 88 => 0xB41F97EA#32
  | 89 => 0x342334FF#32
  | 90 => 0xB426FEBD#32
  | 91 => 0x342AF7D2#32
  | 92 => 0xB42F2322#32
  | 93 => 0x343383CC#32
  | 94 => 0xB4381D32#32
  | 95 => 0x343CF2FA#32
  | 96 => 0xB4420919#32
  | 97 => 0x344763DA#32
  | 98 => 0xB44D07E6#32
  | 99 => 0x3452FA51#32
  | 100 => 0xB45940A1#32
  | 101 => 0x345FE0DA#32
  | 102 => 0xB466E193#32
  | 103 => 0x346E49FF#32
  | 104 => 0xB4762200#32
  | 105 => 0x347E723F#32
  | 106 => 0xB483A221#32
  | 107 => 0x34885143#32
  | 108 => 0xB48D4C4D#32
  | 109 => 0x349299A5#32
  | 110 => 0xB4984061#32
  | 111 => 0x349E485F#32
  | 112 => 0xB4A4BA5F#32
  | 113 => 0x34ABA023#32
  | 114 => 0xB4B30492#32
  | 115 => 0x34BAF3E5#32
  | 116 => 0xB4C37BD6#32
  | 117 => 0x34CCABDA#32
  | 118 => 0xB4D69568#32
  | 119 => 0x34E14C49#32
  | 120 => 0xB4ECE6F7#32
  | 121 => 0x34F97F13#32
  | 122 => 0xB50398F7#32
  | 123 => 0x350B1097#32
  | 124 => 0xB51339CD#32
  | 125 => 0x351C2B08#32
  | 126 => 0xB525FE56#32
  | 127 => 0x3530D21D#32
  | _ => 0#32

noncomputable abbrev lit0t0_58 (i : Nat) : BitVec 32 := match i % 128 with
  | 0 => 0x3530D21D#32
  | 1 => 0xB53CCA00#32
  | 2 => 0x354A0FF9#32
  | 3 => 0xB558D5BB#32
  | 4 => 0x35695670#32
  | 5 => 0xB57BD8F1#32
  | 6 => 0x3588594C#32
  | 7 => 0xB5942572#32
  | 8 => 0x35A19018#32
  | 9 => 0xB5B0E6EF#32
  | 10 => 0x35C28A3B#32
  | 11 => 0xB5D6F23A#32
  | 12 => 0x35EEB658#32
  | 13 => 0xB6054B76#32
  | 14 => 0x3615C529#32
  | 15 => 0xB6296767#32
  | 16 => 0x3641014B#32
  | 17 => 0xB65DA20C#32
  | 18 => 0x368056F2#32
  | 19 => 0xB695FBC4#32
  | 20 => 0x36B0ED61#32
  | 21 => 0xB6D29E9B#32
  | 22 => 0x36FFBDB2#32
  | 23 => 0xB692EE32#32
  | 24 => 0x391EBB1A#32
  | 25 => 0x3B12D0DF#32
  | 26 => 0x3CA0086D#32
  | 27 => 0x3DBAD58B#32
  | 28 => 0x3E6BB748#32
  | 29 => 0x3EA069FE#32
  | 30 => 0x3E6BB748#32
  | 31 => 0x3DBAD58B#32
  | 32 => 0x3CA0086D#32
  | 33 => 0x3B12D0DF#32
  | 34 => 0x391EBB1A#32
  | 35 => 0xB692EE32#32
  | 36 => 0x36FFBDB2#32
  | 37 => 0xB6D29E9B#32
  | 38 => 0x36B0ED61#32
  | 39 => 0xB695FBC4#32
  | 40 => 0x368056F2#32
  | 41 => 0xB65DA20C#32
  | 42 => 0x3641014B#32
  | 43 => 0xB6296767#32
  | 44 => 0x3615C529#32
  | 45 => 0xB6054B76#32
  | 46 => 0x35EEB658#32
  | 47 => 0xB5D6F23A#32
  | 48 => 0x35C28A3B#32
  | 49 => 0xB5B0E6EF#32
  | 50 => 0x35A19018#32
  | 51 => 0xB5942572#32
  | 52 => 0x3588594C#32
  | 53 => 0xB57BD8F1#32
  | 54 => 0x35695670#32
  | 55 => 0xB558D5BB#32
  | 56 => 0x354A0FF9#32
  | 57 => 0xB53CCA00#32
  | 58 => 0x3530D21D#32
  | 59 => 0xB525FE56#32
  | 60 => 0x351C2B08#32
  | 61 => 0xB51339CD#32
  | 62 => 0x350B1097#32
  | 63 => 0xB50398F7#32
  | 64 => 0x34F97F13#32
  | 65 => 0xB4ECE6F7#32
  | 66 => 0x34E14C49#32
  | 67 => 0xB4D69568#32
  | 68 => 0x34CCABDA#32
  | 69 => 0xB4C37BD6#32
  | 70 => 0x34BAF3E5#32
  | 71 => 0xB4B30492#32
  | 72 => 0x34ABA023#32
  | 73 => 0xB4A4BA5F#32
  | 74 => 0x349E485F#32
  | 75 => 0xB4984061#32
  | 76 => 0x349299A5#32
  | 77 => 0xB48D4C4D#32
  | 78 => 0x34885142#32
  | 79 => 0xB483A221#32
  | 80 => 0x347E723F#32
  | 81 => 0xB4762200#32
  | 82 => 0x346E49FF#32
  | 83 => 0xB466E193#32
  | 84 => 0x345FE0DA#32
  | 85 => 0xB45940A1#32
  | 86 => 0x3452FA51#32
  | 87 => 0xB44D07E6#32
  | 88 => 0x344763DA#32
  | 89 => 0xB4420919#32
  | 90 => 0x343CF2FA#32
  | 91 => 0xB4381D32#32
  | 92 => 0x343383CC#32
  | 93 => 0xB42F2322#32
  | 94 => 0x342AF7D2#32
  | 95 => 0xB426FEBD#32
  | 96 => 0x342334FF#32
  | 97 => 0xB41F97EA#32
  | 98 => 0x341C2500#32
  | 99 => 0xB418D9F0#32
  | 100 => 0x3415B495#32
  | 101 => 0xB412B2ED#32
  | 102 => 0x340FD31A#32
  | 103 => 0xB40D1360#32
  | 104 => 0x340A721F#32
  | 105 => 0xB407EDD1#32
  | 106 => 0x3405850C#32
  | 107 => 0xB403367C#32
  | 108 => 0x340100E3#32
  | 109 => 0xB3FDC62E#32
  | 110 => 0x33F9B800#32
  | 111 => 0xB3F5D532#32
  | 112 => 0x33F21BD6#32
  | 113 => 0xB3EE8A1F#32
  | 114 => 0x33EB1E5A#32
  | 115 => 0xB3E7D6EF#32
  | 116 => 0x33E4B25D#32
  | 117 => 0xB3E1AF3D#32
  | 118 => 0x33DECC38#32
  | 119 => 0xB3DC0810#32
  | 120 => 0x33D96196#32
  | 121 => 0xB3D6D7AE#32
  | 122 => 0x33D4694B#32
  | 123 => 0xB3D21572#32
  | 124 => 0x33CFDB34#32
  | 125 => 0xB3CDB9B1#32
  | 126 => 0x33CBB015#32
  | 127 => 0xB3C9BD97#32
  | _ => 0#32

noncomputable abbrev lit0t0_59 (i : Nat) : BitVec 32 := match i % 128 with
  | 0 => 0x33C7E17D#32
  | 1 => 0xB3C61B15#32
  | 2 => 0x33C469B8#32
  | 3 => 0xB3C2CCC7#32
  | 4 => 0x33C143B0#32
  | 5 => 0xB3BFCDE6#32
  | 6 => 0x33BE6AE7#32
  | 7 => 0xB3BD1A36#32
  | 8 => 0x33BBDB61#32
  | 9 => 0xB3BAADFB#32
  | 10 => 0x33B9919E#32
  | 11 => 0xB3B885EC#32
  | 12 => 0x33B78A8A#32
  | 13 => 0xB3B69F28#32
  | 14 => 0x33B5C377#32
  | 15 => 0xB3B4F732#32
  | 16 => 0x33B43A15#32
  | 17 => 0xB3B38BE5#32
  | 18 => 0x33B2EC6A#32
  | 19 => 0xB3B25B72#32
  | 20 => 0x33B1D8CF#32
  | 21 => 0xB3B16459#32
  | 22 => 0x33B0FDEA#32
  | 23 => 0xB3B0A563#32
  | 24 => 0x33B05AA9#32
  | 25 => 0xB3B01DA5#32
  | 26 => 0x33AFEE43#32
  | 27 => 0xB3AFCC75#32
  | 28 => 0x33AFB831#32
  | 29 => 0xB3AFB170#32
  | 30 => 0x33AFB831#32
  | 31 => 0xB3AFCC75#32
  | 32 => 0x33AFEE43#32
  | 33 => 0xB3B01DA5#32
  | 34 => 0x33B05AA9#32
  | 35 => 0xB3B0A563#32
  | 36 => 0x33B0FDEA#32
  | 37 => 0xB3B16459#32
  | 38 => 0x33B1D8CF#32
  | 39 => 0xB3B25B72#32
  | 40 => 0x33B2EC6A#32
  | 41 => 0xB3B38BE5#32
  | 42 => 0x33B43A15#32
  | 43 => 0xB3B4F732#32
  | 44 => 0x33B5C377#32
  | 45 => 0xB3B69F28#32
  | 46 => 0x33B78A8A#32
  | 47 => 0xB3B885EC#32
  | 48 => 0x33B9919E#32
  | 49 => 0xB3BAADFB#32
  | 50 => 0x33BBDB61#32
  | 51 => 0xB3BD1A36#32
  | 52 => 0x33BE6AE7#32
  | 53 => 0xB3BFCDE6#32
  | 54 => 0x33C143B0#32
  | 55 => 0xB3C2CCC7#32
  | 56 => 0x33C469B8#32
  | 57 => 0xB3C61B15#32
  | 58 => 0x33C7E17D#32
  | 59 => 0xB3C9BD97#32
  | 60 => 0x33CBB015#32
  | 61 => 0xB3CDB9B1#32
  | 62 => 0x33CFDB34#32
  | 63 => 0xB3D21572#32
  | 64 => 0x33D4694B#32
  | 65 => 0xB3D6D7AE#32
  | 66 => 0x33D96196#32
  | 67 => 0xB3DC0810#32
  | 68 => 0x33DECC38#32
  | 69 => 0xB3E1AF3D#32
  | 70 => 0x33E4B25D#32
  | 71 => 0xB3E7D6EF#32
  | 72 => 0x33EB1E5A#32
  | 73 => 0xB3EE8A1F#32
  | 74 => 0x33F21BD6#32
  | 75 => 0xB3F5D532#32
  | 76 => 0x33F9B800#32
  | 77 => 0xB3FDC62E#32
  | 78 => 0x340100E3#32
  | 79 => 0xB403367C#32
  | 80 => 0x3405850C#32
  | 81 => 0xB407EDD1#32
  | 82 => 0x340A721F#32
  | 83 => 0xB40D1360#32
  | 84 => 0x340FD31A#32
  | 85 => 0xB412B2ED#32
  | 86 => 0x3415B495#32
  | 87 => 0xB418D9F0#32
  | 88 => 0x341C2500#32
  | 89 => 0xB41F97EA#32
  | 90 => 0x342334FF#32
  | 91 => 0xB426FEBD#32
  | 92 => 0x342AF7D2#32
  | 93 => 0xB42F2322#32
  | 94 => 0x343383CC#32
  | 95 => 0xB4381D32#32
  | 96 => 0x343CF2FA#32
  | 97 => 0xB4420919#32
  | 98 => 0x344763DA#32
  | 99 => 0xB44D07E6#32
  | 100 => 0x3452FA51#32
  | 101 => 0xB45940A1#32
  | 102 => 0x345FE0DA#32
  | 103 => 0xB466E193#32
  | 104 => 0x346E49FF#32
  | 105 => 0xB4762200#32
  | 106 => 0x347E723F#32
  | 107 => 0xB483A221#32
  | 108 => 0x34885142#32
  | 109 => 0xB48D4C4D#32
  | 110 => 0x349299A5#32
  | 111 => 0xB4984061#32
  | 112 => 0x349E485F#32
  | 113 => 0xB4A4BA5F#32
  | 114 => 0x34ABA023#32
  | 115 => 0xB4B30492#32
  | 116 => 0x34BAF3E5#32
  | 117 => 0xB4C37BD6#32
  | 118 => 0x34CCABDA#32
  | 119 => 0xB4D69568#32
  | 120 => 0x34E14C49#32
  | 121 => 0xB4ECE6F7#32
  | 122 => 0x34F97F13#32
  | 123 => 0xB50398F7#32
  | 124 => 0x350B1097#32
  | 125 => 0xB51339CD#32
  | 126 => 0x351C2B08#32
  | 127 => 0xB525FE56#32
  | _ => 0#32

noncomputable abbrev lit0t0_60 (i : Nat) : BitVec 32 := match i % 128 with
  | 0 => 0xB525FE56#32
  | 1 => 0x3530D21D#32
  | 2 => 0xB53CCA00#32
  | 3 => 0x354A0FF9#32
  | 4 => 0xB558D5BB#32
  | 5 => 0x35695670#32
  | 6 => 0xB57BD8F1#32
  | 7 => 0x3588594C#32
  | 8 => 0xB5942572#32
  | 9 => 0x35A19018#32
  | 10 => 0xB5B0E6EF#32
  | 11 => 0x35C28A3B#32
  | 12 => 0xB5D6F23A#32
  | 13 => 0x35EEB658#32
  | 14 => 0xB6054B76#32
  | 15 => 0x3615C529#32
  | 16 => 0xB6296767#32
  | 17 => 0x3641014B#32
  | 18 => 0xB65DA20C#32
  | 19 => 0x368056F2#32
  | 20 => 0xB695FBC4#32
  | 21 => 0x36B0ED61#32
  | 22 => 0xB6D29E9B#32
  | 23 => 0x36FFBDB2#32
  | 24 => 0xB692EE32#32
  | 25 => 0x391EBB1A#32
  | 26 => 0x3B12D0DF#32
  | 27 => 0x3CA0086D#32
  | 28 => 0x3DBAD58B#32
  | 29 => 0x3E6BB748#32
  | 30 => 0x3EA069FE#32
  | 31 => 0x3E6BB748#32
  | 32 => 0x3DBAD58B#32
  | 33 => 0x3CA0086D#32
  | 34 => 0x3B12D0DF#32
  | 35 => 0x391EBB1A#32
  | 36 => 0xB692EE32#32
  | 37 => 0x36FFBDB2#32
  | 38 => 0xB6D29E9B#32
  | 39 => 0x36B0ED61#32
  | 40 => 0xB695FBC4#32
  | 41 => 0x368056F2#32
  | 42 => 0xB65DA20C#32
  | 43 => 0x3641014B#32
  | 44 => 0xB6296767#32
  | 45 => 0x3615C529#32
  | 46 => 0xB6054B76#32
  | 47 => 0x35EEB658#32
  | 48 => 0xB5D6F23A#32
  | 49 => 0x35C28A3B#32
  | 50 => 0xB5B0E6EF#32
  | 51 => 0x35A19018#32
  | 52 => 0xB5942572#32
  | 53 => 0x3588594C#32
  | 54 => 0xB57BD8F1#32
  | 55 => 0x35695670#32
  | 56 => 0xB558D5BB#32
  | 57 => 0x354A0FF9#32
  | 58 => 0xB53CCA00#32
  | 59 => 0x3530D21D#32
  | 60 => 0xB525FE56#32
  | 61 => 0x351C2B08#32
  | 62 => 0xB51339CD#32
  | 63 => 0x350B1097#32
  | 64 => 0xB50398F7#32
  | 65 => 0x34F97F13#32
  | 66 => 0xB4ECE6F7#32
  | 67 => 0x34E14C49#32
  | 68 => 0xB4D69568#32
  | 69 => 0x34CCABDA#32
  | 70 => 0xB4C37BD6#32
  | 71 => 0x34BAF3E5#32
  | 72 => 0xB4B30492#32
  | 73 => 0x34ABA023#32
  | 74 => 0xB4A4BA5F#32
  | 75 => 0x349E485F#32
  | 76 => 0xB4984061#32
  | 77 => 0x349299A5#32
  | 78 => 0xB48D4C4D#32
  | 79 => 0x34885143#32
  | 80 => 0xB483A221#32
  | 81 => 0x347E723F#32
  | 82 => 0xB4762200#32
  | 83 => 0x346E49FF#32
  | 84 => 0xB466E193#32
  | 85 => 0x345FE0DA#32
  | 86 => 0xB45940A1#32
  | 87 => 0x3452FA51#32
  | 88 => 0xB44D07E6#32
  | 89 => 0x344763DA#32
  | 90 => 0xB4420919#32
  | 91 => 0x343CF2FA#32
  | 92 => 0xB4381D32#32
  | 93 => 0x343383CC#32
  | 94 => 0xB42F2322#32
  | 95 => 0x342AF7D2#32
  | 96 => 0xB426FEBD#32
  | 97 => 0x342334FF#32
  | 98 => 0xB41F97EA#32
  | 99 => 0x341C2500#32
  | 100 => 0xB418D9F0#32
  | 101 => 0x3415B495#32
  | 102 => 0xB412B2ED#32
  | 103 => 0x340FD31A#32
  | 104 => 0xB40D1360#32
  | 105 => 0x340A721F#32
  | 106 => 0xB407EDD1#32
  | 107 => 0x3405850C#32
  | 108 => 0xB403367C#32
  | 109 => 0x340100E3#32
  | 110 => 0xB3FDC62E#32
  | 111 => 0x33F9B800#32
  | 112 => 0xB3F5D532#32
  | 113 => 0x33F21BD6#32
  | 114 => 0xB3EE8A1F#32
  | 115 => 0x33EB1E5A#32
  | 116 => 0xB3E7D6EF#32
  | 117 => 0x33E4B25D#32
  | 118 => 0xB3E1AF3D#32
  | 119 => 0x33DECC38#32
  | 120 => 0xB3DC0810#32
  | 121 => 0x33D96196#32
  | 122 => 0xB3D6D7AE#32
  | 123 => 0x33D4694B#32
  | 124 => 0xB3D21572#32
  | 125 => 0x33CFDB34#32
  | 126 => 0xB3CDB9B1#32
  | 127 => 0x33CBB015#32
  | _ => 0#32

noncomputable abbrev lit0t0_61 (i : Nat) : BitVec 32 := match i % 128 with
  | 0 => 0xB3C9BD97#32
  | 1 => 0x33C7E17D#32
  | 2 => 0xB3C61B15#32
  | 3 => 0x33C469B8#32
  | 4 => 0xB3C2CCC7#32
  | 5 => 0x33C143B0#32
  | 6 => 0xB3BFCDE6#32
  | 7 => 0x33BE6AE7#32
  | 8 => 0xB3BD1A36#32
  | 9 => 0x33BBDB61#32
  | 10 => 0xB3BAADFB#32
  | 11 => 0x33B9919E#32
  | 12 => 0xB3B885EC#32
  | 13 => 0x33B78A8A#32
  | 14 => 0xB3B69F28#32
  | 15 => 0x33B5C377#32
  | 16 => 0xB3B4F732#32
  | 17 => 0x33B43A15#32
  | 18 => 0xB3B38BE5#32
  | 19 => 0x33B2EC6A#32
  | 20 => 0xB3B25B72#32
  | 21 => 0x33B1D8CF#32
  | 22 => 0xB3B16459#32
  | 23 => 0x33B0FDEA#32
  | 24 => 0xB3B0A563#32
  | 25 => 0x33B05AA9#32
  | 26 => 0xB3B01DA5#32
  | 27 => 0x33AFEE43#32
  | 28 => 0xB3AFCC75#32
  | 29 => 0x33AFB831#32
  | 30 => 0xB3AFB170#32
  | 31 => 0x33AFB831#32
  | 32 => 0xB3AFCC75#32
  | 33 => 0x33AFEE43#32
  | 34 => 0xB3B01DA5#32
  | 35 => 0x33B05AA9#32
  | 36 => 0xB3B0A563#32
  | 37 => 0x33B0FDEA#32
  | 38 => 0xB3B16459#32
  | 39 => 0x33B1D8CF#32
  | 40 => 0xB3B25B72#32
  | 41 => 0x33B2EC6A#32
  | 42 => 0xB3B38BE5#32
  | 43 => 0x33B43A15#32
  | 44 => 0xB3B4F732#32
  | 45 => 0x33B5C377#32
  | 46 => 0xB3B69F28#32
  | 47 => 0x33B78A8A#32
  | 48 => 0xB3B885EC#32
  | 49 => 0x33B9919E#32
  | 50 => 0xB3BAADFB#32
  | 51 => 0x33BBDB61#32
  | 52 => 0xB3BD1A36#32
  | 53 => 0x33BE6AE7#32
  | 54 => 0xB3BFCDE6#32
  | 55 => 0x33C143B0#32
  | 56 => 0xB3C2CCC7#32
  | 57 => 0x33C469B8#32
  | 58 => 0xB3C61B15#32
  | 59 => 0x33C7E17D#32
  | 60 => 0xB3C9BD97#32
  | 61 => 0x33CBB015#32
  | 62 => 0xB3CDB9B1#32
  | 63 => 0x33CFDB34#32
  | 64 => 0xB3D21572#32
  | 65 => 0x33D4694B#32
  | 66 => 0xB3D6D7AE#32
  | 67 => 0x33D96196#32
  | 68 => 0xB3DC0810#32
  | 69 => 0x33DECC38#32
  | 70 => 0xB3E1AF3D#32
  | 71 => 0x33E4B25D#32
  | 72 => 0xB3E7D6EF#32
  | 73 => 0x33EB1E5A#32
  | 74 => 0xB3EE8A1F#32
  | 75 => 0x33F21BD6#32
  | 76 => 0xB3F5D532#32
  | 77 => 0x33F9B800#32
  | 78 => 0xB3FDC62E#32
  | 79 => 0x340100E3#32
  | 80 => 0xB403367C#32
  | 81 => 0x3405850C#32
  | 82 => 0xB407EDD1#32
  | 83 => 0x340A721F#32
  | 84 => 0xB40D1360#32
  | 85 => 0x340FD31A#32
  | 86 => 0xB412B2ED#32
  | 87 => 0x3415B495#32
  | 88 => 0xB418D9F0#32
  | 89 => 0x341C2500#32
  | 90 => 0xB41F97EA#32
  | 91 => 0x342334FF#32
  | 92 => 0xB426FEBD#32
  | 93 => 0x342AF7D2#32
  | 94 => 0xB42F2322#32
  | 95 => 0x343383CC#32
  | 96 => 0xB4381D32#32
  | 97 => 0x343CF2FA#32
  | 98 => 0xB4420919#32
  | 99 => 0x344763DA#32
  | 100 => 0xB44D07E6#32
  | 101 => 0x3452FA51#32
  | 102 => 0xB45940A1#32
  | 103 => 0x345FE0DA#32
  | 104 => 0xB466E193#32
  | 105 => 0x346E49FF#32
  | 106 => 0xB4762200#32
  | 107 => 0x347E723F#32
  | 108 => 0xB483A221#32
  | 109 => 0x34885142#32
  | 110 => 0xB48D4C4D#32
  | 111 => 0x349299A5#32
  | 112 => 0xB4984061#32
  | 113 => 0x349E485F#32
  | 114 => 0xB4A4BA5F#32
  | 115 => 0x34ABA023#32
  | 116 => 0xB4B30492#32
  | 117 => 0x34BAF3E5#32
  | 118 => 0xB4C37BD6#32
  | 119 => 0x34CCABDA#32
  | 120 => 0xB4D69568#32
  | 121 => 0x34E14C49#32
  | 122 => 0xB4ECE6F7#32
  | 123 => 0x34F97F13#32
  | 124 => 0xB50398F7#32
  | 125 => 0x350B1097#32
  | 126 => 0xB51339CD#32
  | 127 => 0x351C2B08#32
  | _ => 0#32

noncomputable abbrev lit0t0_62 (i : Nat) : BitVec 32 := match i % 128 with
  | 0 => 0x351C2B08#32
  | 1 => 0xB525FE56#32
  | 2 => 0x3530D21D#32
  | 3 => 0xB53CCA00#32
  | 4 => 0x354A0FF9#32
  | 5 => 0xB558D5BB#32
  | 6 => 0x35695670#32
  | 7 => 0xB57BD8F1#32
  | 8 => 0x3588594C#32
  | 9 => 0xB5942572#32
  | 10 => 0x35A19018#32
  | 11 => 0xB5B0E6EF#32
  | 12 => 0x35C28A3B#32
  | 13 => 0xB5D6F23A#32
  | 14 => 0x35EEB658#32
  | 15 => 0xB6054B76#32
  | 16 => 0x3615C529#32
  | 17 => 0xB6296767#32
  | 18 => 0x3641014B#32
  | 19 => 0xB65DA20C#32
  | 20 => 0x368056F2#32
  | 21 => 0xB695FBC4#32
  | 22 => 0x36B0ED61#32
  | 23 => 0xB6D29E9B#32
  | 24 => 0x36FFBDB2#32
  | 25 => 0xB692EE32#32
  | 26 => 0x391EBB1A#32
  | 27 => 0x3B12D0DF#32
  | 28 => 0x3CA0086D#32
  | 29 => 0x3DBAD58B#32
  | 30 => 0x3E6BB748#32
  | 31 => 0x3EA069FE#32
  | 32 => 0x3E6BB748#32
  | 33 => 0x3DBAD58B#32
  | 34 => 0x3CA0086D#32
  | 35 => 0x3B12D0DF#32
  | 36 => 0x391EBB1A#32
  | 37 => 0xB692EE32#32
  | 38 => 0x36FFBDB2#32
  | 39 => 0xB6D29E9B#32
  | 40 => 0x36B0ED61#32
  | 41 => 0xB695FBC4#32
  | 42 => 0x368056F2#32
  | 43 => 0xB65DA20C#32
  | 44 => 0x3641014B#32
  | 45 => 0xB6296767#32
  | 46 => 0x3615C529#32
  | 47 => 0xB6054B76#32
  | 48 => 0x35EEB658#32
  | 49 => 0xB5D6F23A#32
  | 50 => 0x35C28A3B#32
  | 51 => 0xB5B0E6EF#32
  | 52 => 0x35A19018#32
  | 53 => 0xB5942572#32
  | 54 => 0x3588594C#32
  | 55 => 0xB57BD8F1#32
  | 56 => 0x35695670#32
  | 57 => 0xB558D5BB#32
  | 58 => 0x354A0FF9#32
  | 59 => 0xB53CCA00#32
  | 60 => 0x3530D21D#32
  | 61 => 0xB525FE56#32
  | 62 => 0x351C2B08#32
  | 63 => 0xB51339CD#32
  | 64 => 0x350B1097#32
  | 65 => 0xB50398F7#32
  | 66 => 0x34F97F13#32
  | 67 => 0xB4ECE6F7#32
  | 68 => 0x34E14C49#32
  | 69 => 0xB4D69568#32
  | 70 => 0x34CCABDA#32
  | 71 => 0xB4C37BD6#32
  | 72 => 0x34BAF3E5#32
  | 73 => 0xB4B30492#32
  | 74 => 0x34ABA023#32
  | 75 => 0xB4A4BA5F#32
  | 76 => 0x349E485F#32
  | 77 => 0xB4984061#32
  | 78 => 0x349299A5#32
  | 79 => 0xB48D4C4D#32
  | 80 => 0x34885143#32
  | 81 => 0xB483A221#32
  | 82 => 0x347E723F#32
  | 83 => 0xB4762200#32
  | 84 => 0x346E49FF#32
  | 85 => 0xB466E193#32
  | 86 => 0x345FE0DA#32
  | 87 => 0xB45940A1#32
  | 88 => 0x3452FA51#32
  | 89 => 0xB44D07E6#32
  | 90 => 0x344763DA#32
  | 91 => 0xB4420919#32
  | 92 => 0x343CF2FA#32
  | 93 => 0xB4381D32#32
  | 94 => 0x343383CC#32
  | 95 => 0xB42F2322#32
  | 96 => 0x342AF7D2#32
  | 97 => 0xB426FEBD#32
  | 98 => 0x342334FF#32
  | 99 => 0xB41F97EA#32
  | 100 => 0x341C2500#32
  | 101 => 0xB418D9F0#32
  | 102 => 0x3415B495#32
  | 103 => 0xB412B2ED#32
  | 104 => 0x340FD31A#32
  | 105 => 0xB40D1360#32
  | 106 => 0x340A721F#32
  | 107 => 0xB407EDD1#32
  | 108 => 0x3405850C#32
  | 109 => 0xB403367C#32
  | 110 => 0x340100E3#32
  | 111 => 0xB3FDC62E#32
  | 112 => 0x33F9B800#32
  | 113 => 0xB3F5D532#32
  | 114 => 0x33F21BD6#32
  | 115 => 0xB3EE8A1F#32
  | 116 => 0x33EB1E5A#32
  | 117 => 0xB3E7D6EF#32
  | 118 => 0x33E4B25D#32
  | 119 => 0xB3E1AF3D#32
  | 120 => 0x33DECC38#32
  | 121 => 0xB3DC0810#32
  | 122 => 0x33D96196#32
  | 123 => 0xB3D6D7AE#32
  | 124 => 0x33D4694B#32
  | 125 => 0xB3D21572#32
  | 126 => 0x33CFDB34#32
  | 127 => 0xB3CDB9B1#32
  | _ => 0#32

noncomputable abbrev lit0t0_63 (i : Nat) : BitVec 32 := match i % 128 with
  | 0 => 0x33CBB015#32
  | 1 => 0xB3C9BD97#32
  | 2 => 0x33C7E17D#32
  | 3 => 0xB3C61B15#32
  | 4 => 0x33C469B8#32
  | 5 => 0xB3C2CCC7#32
  | 6 => 0x33C143B0#32
  | 7 => 0xB3BFCDE6#32
  | 8 => 0x33BE6AE7#32
  | 9 => 0xB3BD1A36#32
  | 10 => 0x33BBDB61#32
  | 11 => 0xB3BAADFB#32
  | 12 => 0x33B9919E#32
  | 13 => 0xB3B885EC#32
  | 14 => 0x33B78A8A#32
  | 15 => 0xB3B69F28#32
  | 16 => 0x33B5C377#32
  | 17 => 0xB3B4F732#32
  | 18 => 0x33B43A15#32
  | 19 => 0xB3B38BE5#32
  | 20 => 0x33B2EC6A#32
  | 21 => 0xB3B25B72#32
  | 22 => 0x33B1D8CF#32
  | 23 => 0xB3B16459#32
  | 24 => 0x33B0FDEA#32
  | 25 => 0xB3B0A563#32
  | 26 => 0x33B05AA9#32
  | 27 => 0xB3B01DA5#32
  | 28 => 0x33AFEE43#32
  | 29 => 0xB3AFCC75#32
  | 30 => 0x33AFB831#32
  | 31 => 0xB3AFB170#32
  | 32 => 0x33AFB831#32
  | 33 => 0xB3AFCC75#32
  | 34 => 0x33AFEE43#32
  | 35 => 0xB3B01DA5#32
  | 36 => 0x33B05AA9#32
  | 37 => 0xB3B0A563#32
  | 38 => 0x33B0FDEA#32
  | 39 => 0xB3B16459#32
  | 40 => 0x33B1D8CF#32
  | 41 => 0xB3B25B72#32
  | 42 => 0x33B2EC6A#32
  | 43 => 0xB3B38BE5#32
  | 44 => 0x33B43A15#32
  | 45 => 0xB3B4F732#32
  | 46 => 0x33B5C377#32
  | 47 => 0xB3B69F28#32
  | 48 => 0x33B78A8A#32
  | 49 => 0xB3B885EC#32
  | 50 => 0x33B9919E#32
  | 51 => 0xB3BAADFB#32
  | 52 => 0x33BBDB61#32
  | 53 => 0xB3BD1A36#32
  | 54 => 0x33BE6AE7#32
  | 55 => 0xB3BFCDE6#32
  | 56 => 0x33C143B0#32
  | 57 => 0xB3C2CCC7#32
  | 58 => 0x33C469B8#32
  | 59 => 0xB3C61B15#32
  | 60 => 0x33C7E17D#32
  | 61 => 0xB3C9BD97#32
  | 62 => 0x33CBB015#32
  | 63 => 0xB3CDB9B1#32
  | 64 => 0x33CFDB34#32
  | 65 => 0xB3D21572#32
  | 66 => 0x33D4694B#32
  | 67 => 0xB3D6D7AE#32
  | 68 => 0x33D96196#32
  | 69 => 0xB3DC0810#32
  | 70 => 0x33DECC38#32
  | 71 => 0xB3E1AF3D#32
  | 72 => 0x33E4B25D#32
  | 73 => 0xB3E7D6EF#32
  | 74 => 0x33EB1E5A#32
  | 75 => 0xB3EE8A1F#32
  | 76 => 0x33F21BD6#32
  | 77 => 0xB3F5D532#32
  | 78 => 0x33F9B800#32
  | 79 => 0xB3FDC62E#32
  | 80 => 0x340100E3#32
  | 81 => 0xB403367C#32
  | 82 => 0x3405850C#32
  | 83 => 0xB407EDD1#32
  | 84 => 0x340A721F#32
  | 85 => 0xB40D1360#32
  | 86 => 0x340FD31A#32
  | 87 => 0xB412B2ED#32
  | 88 => 0x3415B495#32
  | 89 => 0xB418D9F0#32
  | 90 => 0x341C2500#32
  | 91 => 0xB41F97EA#32
  | 92 => 0x342334FF#32
  | 93 => 0xB426FEBD#32
  | 94 => 0x342AF7D2#32
  | 95 => 0xB42F2322#32
  | 96 => 0x343383CC#32
  | 97 => 0xB4381D32#32
  | 98 => 0x343CF2FA#32
  | 99 => 0xB4420919#32
  | 100 => 0x344763DA#32
  | 101 => 0xB44D07E6#32
  | 102 => 0x3452FA51#32
  | 103 => 0xB45940A1#32
  | 104 => 0x345FE0DA#32
  | 105 => 0xB466E193#32
  | 106 => 0x346E49FF#32
  | 107 => 0xB4762200#32
  | 108 => 0x347E723F#32
  | 109 => 0xB483A221#32
  | 110 => 0x34885143#32
  | 111 => 0xB48D4C4D#32
  | 112 => 0x349299A5#32
  | 113 => 0xB4984061#32
  | 114 => 0x349E485F#32
  | 115 => 0xB4A4BA5F#32
  | 116 => 0x34ABA023#32
  | 117 => 0xB4B30492#32
  | 118 => 0x34BAF3E5#32
  | 119 => 0xB4C37BD6#32
  | 120 => 0x34CCABDA#32
  | 121 => 0xB4D69568#32
  | 122 => 0x34E14C49#32
  | 123 => 0xB4ECE6F7#32
  | 124 => 0x34F97F13#32
  | 125 => 0xB50398F7#32
  | 126 => 0x350B1097#32
  | 127 => 0xB51339CD#32
  | _ => 0#32

noncomputable abbrev lit0t0_64 (i : Nat) : BitVec 32 := match i % 128 with
  | 0 => 0xB51339CD#32
  | 1 => 0x351C2B08#32
  | 2 => 0xB525FE56#32
  | 3 => 0x3530D21D#32
  | 4 => 0xB53CCA00#32
  | 5 => 0x354A0FF9#32
  | 6 => 0xB558D5BB#32
  | 7 => 0x35695670#32
  | 8 => 0xB57BD8F1#32
  | 9 => 0x3588594C#32
  | 10 => 0xB5942572#32
  | 11 => 0x35A19018#32
  | 12 => 0xB5B0E6EF#32
  | 13 => 0x35C28A3B#32
  | 14 => 0xB5D6F23A#32
  | 15 => 0x35EEB658#32
  | 16 => 0xB6054B76#32
  | 17 => 0x3615C529#32
  | 18 => 0xB6296767#32
  | 19 => 0x3641014B#32
  | 20 => 0xB65DA20C#32
  | 21 => 0x368056F2#32
  | 22 => 0xB695FBC4#32
  | 23 => 0x36B0ED61#32
  | 24 => 0xB6D29E9B#32
  | 25 => 0x36FFBDB2#32
  | 26 => 0xB692EE32#32
  | 27 => 0x391EBB1A#32
  | 28 => 0x3B12D0DF#32
  | 29 => 0x3CA0086D#32
  | 30 => 0x3DBAD58B#32
  | 31 => 0x3E6BB748#32
  | 32 => 0x3EA069FE#32
  | 33 => 0x3E6BB748#32
  | 34 => 0x3DBAD58B#32
  | 35 => 0x3CA0086D#32
  | 36 => 0x3B12D0DF#32
  | 37 => 0x391EBB1A#32
  | 38 => 0xB692EE32#32
  | 39 => 0x36FFBDB2#32
  | 40 => 0xB6D29E9B#32
  | 41 => 0x36B0ED61#32
  | 42 => 0xB695FBC4#32
  | 43 => 0x368056F2#32
  | 44 => 0xB65DA20C#32
  | 45 => 0x3641014B#32
  | 46 => 0xB6296767#32
  | 47 => 0x3615C529#32
  | 48 => 0xB6054B76#32
  | 49 => 0x35EEB658#32
  | 50 => 0xB5D6F23A#32
  | 51 => 0x35C28A3B#32
  | 52 => 0xB5B0E6EF#32
  | 53 => 0x35A19018#32
  | 54 => 0xB5942572#32
  | 55 => 0x3588594C#32
  | 56 => 0xB57BD8F1#32
  | 57 => 0x35695670#32
  | 58 => 0xB558D5BB#32
  | 59 => 0x354A0FF9#32
  | 60 => 0xB53CCA00#32
  | 61 => 0x3530D21D#32
  | 62 => 0xB525FE56#32
  | 63 => 0x351C2B08#32
  | 64 => 0xB51339CD#32
  | 65 => 0x350B1097#32
  | 66 => 0xB50398F7#32
  | 67 => 0x34F97F13#32
  | 68 => 0xB4ECE6F7#32
  | 69 => 0x34E14C49#32
  | 70 => 0xB4D69568#32
  | 71 => 0x34CCABDA#32
  | 72 => 0xB4C37BD6#32
  | 73 => 0x34BAF3E5#32
  | 74 => 0xB4B30492#32
  | 75 => 0x34ABA023#32
  | 76 => 0xB4A4BA5F#32
  | 77 => 0x349E485F#32
  | 78 => 0xB4984061#32
  | 79 => 0x349299A5#32
  | 80 => 0xB48D4C4D#32
  | 81 => 0x34885142#32
  | 82 => 0xB483A221#32
  | 83 => 0x347E723F#32
  | 84 => 0xB4762200#32
  | 85 => 0x346E49FF#32
  | 86 => 0xB466E193#32
  | 87 => 0x345FE0DA#32
  | 88 => 0xB45940A1#32
  | 89 => 0x3452FA51#32
  | 90 => 0xB44D07E6#32
  | 91 => 0x344763DA#32
  | 92 => 0xB4420919#32
  | 93 => 0x343CF2FA#32
  | 94 => 0xB4381D32#32
  | 95 => 0x343383CC#32
  | 96 => 0xB42F2322#32
  | 97 => 0x342AF7D2#32
  | 98 => 0xB426FEBD#32
  | 99 => 0x342334FF#32
  | 100 => 0xB41F97EA#32
  | 101 => 0x341C2500#32
  | 102 => 0xB418D9F0#32
  | 103 => 0x3415B495#32
  | 104 => 0xB412B2ED#32
  | 105 => 0x340FD31A#32
  | 106 => 0xB40D1360#32
  | 107 => 0x340A721F#32
  | 108 => 0xB407EDD1#32
  | 109 => 0x3405850C#32
  | 110 => 0xB403367C#32
  | 111 => 0x340100E3#32
  | 112 => 0xB3FDC62E#32
  | 113 => 0x33F9B800#32
  | 114 => 0xB3F5D532#32
  | 115 => 0x33F21BD6#32
  | 116 => 0xB3EE8A1F#32
  | 117 => 0x33EB1E5A#32
  | 118 => 0xB3E7D6EF#32
  | 119 => 0x33E4B25D#32
  | 120 => 0xB3E1AF3D#32
  | 121 => 0x33DECC38#32
  | 122 => 0xB3DC0810#32
  | 123 => 0x33D96196#32
  | 124 => 0xB3D6D7AE#32
  | 125 => 0x33D4694B#32
  | 126 => 0xB3D21572#32
  | 127 => 0x33CFDB34#32
  | _ => 0#32

noncomputable abbrev lit0t0_65 (i : Nat) : BitVec 32 := match i % 128 with
  | 0 => 0xB3CDB9B1#32
  | 1 => 0x33CBB015#32
  | 2 => 0xB3C9BD97#32
  | 3 => 0x33C7E17D#32
  | 4 => 0xB3C61B15#32
  | 5 => 0x33C469B8#32
  | 6 => 0xB3C2CCC7#32
  | 7 => 0x33C143B0#32
  | 8 => 0xB3BFCDE6#32
  | 9 => 0x33BE6AE7#32
  | 10 => 0xB3BD1A36#32
  | 11 => 0x33BBDB61#32
  | 12 => 0xB3BAADFB#32
  | 13 => 0x33B9919E#32
  | 14 => 0xB3B885EC#32
  | 15 => 0x33B78A8A#32
  | 16 => 0xB3B69F28#32
  | 17 => 0x33B5C377#32
  | 18 => 0xB3B4F732#32
  | 19 => 0x33B43A15#32
  | 20 => 0xB3B38BE5#32
  | 21 => 0x33B2EC6A#32
  | 22 => 0xB3B25B72#32
  | 23 => 0x33B1D8CF#32
  | 24 => 0xB3B16459#32
  | 25 => 0x33B0FDEA#32
  | 26 => 0xB3B0A563#32
  | 27 => 0x33B05AA9#32
  | 28 => 0xB3B01DA5#32
  | 29 => 0x33AFEE43#32
  | 30 => 0xB3AFCC75#32
  | 31 => 0x33AFB831#32
  | 32 => 0xB3AFB170#32
  | 33 => 0x33AFB831#32
  | 34 => 0xB3AFCC75#32
  | 35 => 0x33AFEE43#32
  | 36 => 0xB3B01DA5#32
  | 37 => 0x33B05AA9#32
  | 38 => 0xB3B0A563#32
  | 39 => 0x33B0FDEA#32
  | 40 => 0xB3B16459#32
  | 41 => 0x33B1D8CF#32
  | 42 => 0xB3B25B72#32
  | 43 => 0x33B2EC6A#32
  | 44 => 0xB3B38BE5#32
  | 45 => 0x33B43A15#32
  | 46 => 0xB3B4F732#32
  | 47 => 0x33B5C377#32
  | 48 => 0xB3B69F28#32
  | 49 => 0x33B78A8A#32
  | 50 => 0xB3B885EC#32
  | 51 => 0x33B9919E#32
  | 52 => 0xB3BAADFB#32
  | 53 => 0x33BBDB61#32
  | 54 => 0xB3BD1A36#32
  | 55 => 0x33BE6AE7#32
  | 56 => 0xB3BFCDE6#32
  | 57 => 0x33C143B0#32
  | 58 => 0xB3C2CCC7#32
  | 59 => 0x33C469B8#32
  | 60 => 0xB3C61B15#32
  | 61 => 0x33C7E17D#32
  | 62 => 0xB3C9BD97#32
  | 63 => 0x33CBB015#32
  | 64 => 0xB3CDB9B1#32
  | 65 => 0x33CFDB34#32
  | 66 => 0xB3D21572#32
  | 67 => 0x33D4694B#32
  | 68 => 0xB3D6D7AE#32
  | 69 => 0x33D96196#32
  | 70 => 0xB3DC0810#32
  | 71 => 0x33DECC38#32
  | 72 => 0xB3E1AF3D#32
  | 73 => 0x33E4B25D#32
  | 74 => 0xB3E7D6EF#32
  | 75 => 0x33EB1E5A#32
  | 76 => 0xB3EE8A1F#32
  | 77 => 0x33F21BD6#32
  | 78 => 0xB3F5D532#32
  | 79 => 0x33F9B800#32
  | 80 => 0xB3FDC62E#32
  | 81 => 0x340100E3#32
  | 82 => 0xB403367C#32
  | 83 => 0x3405850C#32
  | 84 => 0xB407EDD1#32
  | 85 => 0x340A721F#32
  | 86 => 0xB40D1360#32
  | 87 => 0x340FD31A#32
  | 88 => 0xB412B2ED#32
  | 89 => 0x3415B495#32
  | 90 => 0xB418D9F0#32
  | 91 => 0x341C2500#32
  | 92 => 0xB41F97EA#32
  | 93 => 0x342334FF#32
  | 94 => 0xB426FEBD#32
  | 95 => 0x342AF7D2#32
  | 96 => 0xB42F2322#32
  | 97 => 0x343383CC#32
  | 98 => 0xB4381D32#32
  | 99 => 0x343CF2FA#32
  | 100 => 0xB4420919#32
  | 101 => 0x344763DA#32
  | 102 => 0xB44D07E6#32
  | 103 => 0x3452FA51#32
  | 104 => 0xB45940A1#32
  | 105 => 0x345FE0DA#32
  | 106 => 0xB466E193#32
  | 107 => 0x346E49FF#32
  | 108 => 0xB4762200#32
  | 109 => 0x347E723F#32
  | 110 => 0xB483A221#32
  | 111 => 0x34885143#32
  | 112 => 0xB48D4C4D#32
  | 113 => 0x349299A5#32
  | 114 => 0xB4984061#32
  | 115 => 0x349E485F#32
  | 116 => 0xB4A4BA5F#32
  | 117 => 0x34ABA023#32
  | 118 => 0xB4B30492#32
  | 119 => 0x34BAF3E5#32
  | 120 => 0xB4C37BD6#32
  | 121 => 0x34CCABDA#32
  | 122 => 0xB4D69568#32
  | 123 => 0x34E14C49#32
  | 124 => 0xB4ECE6F7#32
  | 125 => 0x34F97F13#32
  | 126 => 0xB50398F7#32
  | 127 => 0x350B1097#32
  | _ => 0#32

noncomputable abbrev lit0t0_66 (i : Nat) : BitVec 32 := match i % 128 with
  | 0 => 0x350B1097#32
  | 1 => 0xB51339CD#32
  | 2 => 0x351C2B08#32
  | 3 => 0xB525FE56#32
  | 4 => 0x3530D21D#32
  | 5 => 0xB53CCA00#32
  | 6 => 0x354A0FF9#32
  | 7 => 0xB558D5BB#32
  | 8 => 0x35695670#32
  | 9 => 0xB57BD8F1#32
  | 10 => 0x3588594C#32
  | 11 => 0xB5942572#32
  | 12 => 0x35A19018#32
  | 13 => 0xB5B0E6EF#32
  | 14 => 0x35C28A3B#32
  | 15 => 0xB5D6F23A#32
  | 16 => 0x35EEB658#32
  | 17 => 0xB6054B76#32
  | 18 => 0x3615C529#32
  | 19 => 0xB6296767#32
  | 20 => 0x3641014B#32
  | 21 => 0xB65DA20C#32
  | 22 => 0x368056F2#32
  | 23 => 0xB695FBC4#32
  | 24 => 0x36B0ED61#32
  | 25 => 0xB6D29E9B#32
  | 26 => 0x36FFBDB2#32
  | 27 => 0xB692EE32#32
  | 28 => 0x391EBB1A#32
  | 29 => 0x3B12D0DF#32
  | 30 => 0x3CA0086D#32
  | 31 => 0x3DBAD58B#32
  | 32 => 0x3E6BB748#32
  | 33 => 0x3EA069FE#32
  | 34 => 0x3E6BB748#32
  | 35 => 0x3DBAD58B#32
  | 36 => 0x3CA0086D#32
  | 37 => 0x3B12D0DF#32
  | 38 => 0x391EBB1A#32
  | 39 => 0xB692EE32#32
  | 40 => 0x36FFBDB2#32
  | 41 => 0xB6D29E9B#32
  | 42 => 0x36B0ED61#32
  | 43 => 0xB695FBC4#32
  | 44 => 0x368056F2#32
  | 45 => 0xB65DA20C#32
  | 46 => 0x3641014B#32
  | 47 => 0xB6296767#32
  | 48 => 0x3615C529#32
  | 49 => 0xB6054B76#32
  | 50 => 0x35EEB658#32
  | 51 => 0xB5D6F23A#32
  | 52 => 0x35C28A3B#32
  | 53 => 0xB5B0E6EF#32
  | 54 => 0x35A19018#32
  | 55 => 0xB5942572#32
  | 56 => 0x3588594C#32
  | 57 => 0xB57BD8F1#32
  | 58 => 0x35695670#32
  | 59 => 0xB558D5BB#32
  | 60 => 0x354A0FF9#32
  | 61 => 0xB53CCA00#32
  | 62 => 0x3530D21D#32
  | 63 => 0xB525FE56#32
  | 64 => 0x351C2B08#32
  | 65 => 0xB51339CD#32
  | 66 => 0x350B1097#32
  | 67 => 0xB50398F7#32
  | 68 => 0x34F97F13#32
  | 69 => 0xB4ECE6F7#32
  | 70 => 0x34E14C49#32
  | 71 => 0xB4D69568#32
  | 72 => 0x34CCABDA#32
  | 73 => 0xB4C37BD6#32
  | 74 => 0x34BAF3E5#32
  | 75 => 0xB4B30492#32
  | 76 => 0x34ABA023#32
  | 77 => 0xB4A4BA5F#32
  | 78 => 0x349E485F#32
  | 79 => 0xB4984061#32
  | 80 => 0x349299A5#32
  | 81 => 0xB48D4C4D#32
  | 82 => 0x34885143#32
  | 83 => 0xB483A221#32
  | 84 => 0x347E723F#32
  | 85 => 0xB4762200#32
  | 86 => 0x346E49FF#32
  | 87 => 0xB466E193#32
  | 88 => 0x345FE0DA#32
  | 89 => 0xB45940A1#32
  | 90 => 0x3452FA51#32
  | 91 => 0xB44D07E6#32
  | 92 => 0x344763DA#32
  | 93 => 0xB4420919#32
  | 94 => 0x343CF2FA#32
  | 95 => 0xB4381D32#32
  | 96 => 0x343383CC#32
  | 97 => 0xB42F2322#32
  | 98 => 0x342AF7D2#32
  | 99 => 0xB426FEBD#32
  | 100 => 0x342334FF#32
  | 101 => 0xB41F97EA#32
  | 102 => 0x341C2500#32
  | 103 => 0xB418D9F0#32
  | 104 => 0x3415B495#32
  | 105 => 0xB412B2ED#32
  | 106 => 0x340FD31A#32
  | 107 => 0xB40D1360#32
  | 108 => 0x340A721F#32
  | 109 => 0xB407EDD1#32
  | 110 => 0x3405850C#32
  | 111 => 0xB403367C#32
  | 112 => 0x340100E3#32
  | 113 => 0xB3FDC62E#32
  | 114 => 0x33F9B800#32
  | 115 => 0xB3F5D532#32
  | 116 => 0x33F21BD6#32
  | 117 => 0xB3EE8A1F#32
  | 118 => 0x33EB1E5A#32
  | 119 => 0xB3E7D6EF#32
  | 120 => 0x33E4B25D#32
  | 121 => 0xB3E1AF3D#32
  | 122 => 0x33DECC38#32
  | 123 => 0xB3DC0810#32
  | 124 => 0x33D96196#32
  | 125 => 0xB3D6D7AE#32
  | 126 => 0x33D4694B#32
  | 127 => 0xB3D21572#32
  | _ => 0#32

noncomputable abbrev lit0t0_67 (i : Nat) : BitVec 32 := match i % 128 with
  | 0 => 0x33CFDB34#32
  | 1 => 0xB3CDB9B1#32
  | 2 => 0x33CBB015#32
  | 3 => 0xB3C9BD97#32
  | 4 => 0x33C7E17D#32
  | 5 => 0xB3C61B15#32
  | 6 => 0x33C469B8#32
  | 7 => 0xB3C2CCC7#32
  | 8 => 0x33C143B0#32
  | 9 => 0xB3BFCDE6#32
  | 10 => 0x33BE6AE7#32
  | 11 => 0xB3BD1A36#32
  | 12 => 0x33BBDB61#32
  | 13 => 0xB3BAADFB#32
  | 14 => 0x33B9919E#32
  | 15 => 0xB3B885EC#32
  | 16 => 0x33B78A8A#32
  | 17 => 0xB3B69F28#32
  | 18 => 0x33B5C377#32
  | 19 => 0xB3B4F732#32
  | 20 => 0x33B43A15#32
  | 21 => 0xB3B38BE5#32
  | 22 => 0x33B2EC6A#32
  | 23 => 0xB3B25B72#32
  | 24 => 0x33B1D8CF#32
  | 25 => 0xB3B16459#32
  | 26 => 0x33B0FDEA#32
  | 27 => 0xB3B0A563#32
  | 28 => 0x33B05AA9#32
  | 29 => 0xB3B01DA5#32
  | 30 => 0x33AFEE43#32
  | 31 => 0xB3AFCC75#32
  | 32 => 0x33AFB831#32
  | 33 => 0xB3AFB170#32
  | 34 => 0x33AFB831#32
  | 35 => 0xB3AFCC75#32
  | 36 => 0x33AFEE43#32
  | 37 => 0xB3B01DA5#32
  | 38 => 0x33B05AA9#32
  | 39 => 0xB3B0A563#32
  | 40 => 0x33B0FDEA#32
  | 41 => 0xB3B16459#32
  | 42 => 0x33B1D8CF#32
  | 43 => 0xB3B25B72#32
  | 44 => 0x33B2EC6A#32
  | 45 => 0xB3B38BE5#32
  | 46 => 0x33B43A15#32
  | 47 => 0xB3B4F732#32
  | 48 => 0x33B5C377#32
  | 49 => 0xB3B69F28#32
  | 50 => 0x33B78A8A#32
  | 51 => 0xB3B885EC#32
  | 52 => 0x33B9919E#32
  | 53 => 0xB3BAADFB#32
  | 54 => 0x33BBDB61#32
  | 55 => 0xB3BD1A36#32
  | 56 => 0x33BE6AE7#32
  | 57 => 0xB3BFCDE6#32
  | 58 => 0x33C143B0#32
  | 59 => 0xB3C2CCC7#32
  | 60 => 0x33C469B8#32
  | 61 => 0xB3C61B15#32
  | 62 => 0x33C7E17D#32
  | 63 => 0xB3C9BD97#32
  | 64 => 0x33CBB015#32
  | 65 => 0xB3CDB9B1#32
  | 66 => 0x33CFDB34#32
  | 67 => 0xB3D21572#32
  | 68 => 0x33D4694B#32
  | 69 => 0xB3D6D7AE#32
  | 70 => 0x33D96196#32
  | 71 => 0xB3DC0810#32
  | 72 => 0x33DECC38#32
  | 73 => 0xB3E1AF3D#32
  | 74 => 0x33E4B25D#32
  | 75 => 0xB3E7D6EF#32
  | 76 => 0x33EB1E5A#32
  | 77 => 0xB3EE8A1F#32
  | 78 => 0x33F21BD6#32
  | 79 => 0xB3F5D532#32
  | 80 => 0x33F9B800#32
  | 81 => 0xB3FDC62E#32
  | 82 => 0x340100E3#32
  | 83 => 0xB403367C#32
  | 84 => 0x3405850C#32
  | 85 => 0xB407EDD1#32
  | 86 => 0x340A721F#32
  | 87 => 0xB40D1360#32
  | 88 => 0x340FD31A#32
  | 89 => 0xB412B2ED#32
  | 90 => 0x3415B495#32
  | 91 => 0xB418D9F0#32
  | 92 => 0x341C2500#32
  | 93 => 0xB41F97EA#32
  | 94 => 0x342334FF#32
  | 95 => 0xB426FEBD#32
  | 96 => 0x342AF7D2#32
  | 97 => 0xB42F2322#32
  | 98 => 0x343383CC#32
  | 99 => 0xB4381D32#32
  | 100 => 0x343CF2FA#32
  | 101 => 0xB4420919#32
  | 102 => 0x344763DA#32
  | 103 => 0xB44D07E6#32
  | 104 => 0x3452FA51#32
  | 105 => 0xB45940A1#32
  | 106 => 0x345FE0DA#32
  | 107 => 0xB466E193#32
  | 108 => 0x346E49FF#32
  | 109 => 0xB4762200#32
  | 110 => 0x347E723F#32
  | 111 => 0xB483A221#32
  | 112 => 0x34885142#32
  | 113 => 0xB48D4C4D#32
  | 114 => 0x349299A5#32
  | 115 => 0xB4984061#32
  | 116 => 0x349E485F#32
  | 117 => 0xB4A4BA5F#32
  | 118 => 0x34ABA023#32
  | 119 => 0xB4B30492#32
  | 120 => 0x34BAF3E5#32
  | 121 => 0xB4C37BD6#32
  | 122 => 0x34CCABDA#32
  | 123 => 0xB4D69568#32
  | 124 => 0x34E14C49#32
  | 125 => 0xB4ECE6F7#32
  | 126 => 0x34F97F13#32
  | 127 => 0xB50398F7#32
  | _ => 0#32

noncomputable abbrev lit0t0_68 (i : Nat) : BitVec 32 := match i % 128 with
  | 0 => 0xB50398F7#32
  | 1 => 0x350B1097#32
  | 2 => 0xB51339CD#32
  | 3 => 0x351C2B08#32
  | 4 => 0xB525FE56#32
  | 5 => 0x3530D21D#32
  | 6 => 0xB53CCA00#32
  | 7 => 0x354A0FF9#32
  | 8 => 0xB558D5BB#32
  | 9 => 0x35695670#32
  | 10 => 0xB57BD8F1#32
  | 11 => 0x3588594C#32
  | 12 => 0xB5942572#32
  | 13 => 0x35A19018#32
  | 14 => 0xB5B0E6EF#32
  | 15 => 0x35C28A3B#32
  | 16 => 0xB5D6F23A#32
  | 17 => 0x35EEB658#32
  | 18 => 0xB6054B76#32
  | 19 => 0x3615C529#32
  | 20 => 0xB6296767#32
  | 21 => 0x3641014B#32
  | 22 => 0xB65DA20C#32
  | 23 => 0x368056F2#32
  | 24 => 0xB695FBC4#32
  | 25 => 0x36B0ED61#32
  | 26 => 0xB6D29E9B#32
  | 27 => 0x36FFBDB2#32
  | 28 => 0xB692EE32#32
  | 29 => 0x391EBB1A#32
  | 30 => 0x3B12D0DF#32
  | 31 => 0x3CA0086D#32
  | 32 => 0x3DBAD58B#32
  | 33 => 0x3E6BB748#32
  | 34 => 0x3EA069FE#32
  | 35 => 0x3E6BB748#32
  | 36 => 0x3DBAD58B#32
  | 37 => 0x3CA0086D#32
  | 38 => 0x3B12D0DF#32
  | 39 => 0x391EBB1A#32
  | 40 => 0xB692EE32#32
  | 41 => 0x36FFBDB2#32
  | 42 => 0xB6D29E9B#32
  | 43 => 0x36B0ED61#32
  | 44 => 0xB695FBC4#32
  | 45 => 0x368056F2#32
  | 46 => 0xB65DA20C#32
  | 47 => 0x3641014B#32
  | 48 => 0xB6296767#32
  | 49 => 0x3615C529#32
  | 50 => 0xB6054B76#32
  | 51 => 0x35EEB658#32
  | 52 => 0xB5D6F23A#32
  | 53 => 0x35C28A3B#32
  | 54 => 0xB5B0E6EF#32
  | 55 => 0x35A19018#32
  | 56 => 0xB5942572#32
  | 57 => 0x3588594C#32
  | 58 => 0xB57BD8F1#32
  | 59 => 0x35695670#32
  | 60 => 0xB558D5BB#32
  | 61 => 0x354A0FF9#32
  | 62 => 0xB53CCA00#32
  | 63 => 0x3530D21D#32
  | 64 => 0xB525FE56#32
  | 65 => 0x351C2B08#32
  | 66 => 0xB51339CD#32
  | 67 => 0x350B1097#32
  | 68 => 0xB50398F7#32
  | 69 => 0x34F97F13#32
  | 70 => 0xB4ECE6F7#32
  | 71 => 0x34E14C49#32
  | 72 => 0xB4D69568#32
  | 73 => 0x34CCABDA#32
  | 74 => 0xB4C37BD6#32
  | 75 => 0x34BAF3E5#32
  | 76 => 0xB4B30492#32
  | 77 => 0x34ABA023#32
  | 78 => 0xB4A4BA5F#32
  | 79 => 0x349E485F#32
  | 80 => 0xB4984061#32
  | 81 => 0x349299A5#32
  | 82 => 0xB48D4C4D#32
  | 83 => 0x34885143#32
  | 84 => 0xB483A221#32
  | 85 => 0x347E723F#32
  | 86 => 0xB4762200#32
  | 87 => 0x346E49FF#32
  | 88 => 0xB466E193#32
  | 89 => 0x345FE0DA#32
  | 90 => 0xB45940A1#32
  | 91 => 0x3452FA51#32
  | 92 => 0xB44D07E6#32
  | 93 => 0x344763DA#32
  | 94 => 0xB4420919#32
  | 95 => 0x343CF2FA#32
  | 96 => 0xB4381D32#32
  | 97 => 0x343383CC#32
  | 98 => 0xB42F2322#32
  | 99 => 0x342AF7D2#32
  | 100 => 0xB426FEBD#32
  | 101 => 0x342334FF#32
  | 102 => 0xB41F97EA#32
  | 103 => 0x341C2500#32
  | 104 => 0xB418D9F0#32
  | 105 => 0x3415B495#32
  | 106 => 0xB412B2ED#32
  | 107 => 0x340FD31A#32
  | 108 => 0xB40D1360#32
  | 109 => 0x340A721F#32
  | 110 => 0xB407EDD1#32
  | 111 => 0x3405850C#32
  | 112 => 0xB403367C#32
  | 113 => 0x340100E3#32
  | 114 => 0xB3FDC62E#32
  | 115 => 0x33F9B800#32
  | 116 => 0xB3F5D532#32
  | 117 => 0x33F21BD6#32
  | 118 => 0xB3EE8A1F#32
  | 119 => 0x33EB1E5A#32
  | 120 => 0xB3E7D6EF#32
  | 121 => 0x33E4B25D#32
  | 122 => 0xB3E1AF3D#32
  | 123 => 0x33DECC38#32
  | 124 => 0xB3DC0810#32
  | 125 => 0x33D96196#32
  | 126 => 0xB3D6D7AE#32
  | 127 => 0x33D4694B#32
  | _ => 0#32

noncomputable abbrev lit0t0_69 (i : Nat) : BitVec 32 := match i % 128 with
  | 0 => 0xB3D21572#32
  | 1 => 0x33CFDB34#32
  | 2 => 0xB3CDB9B1#32
  | 3 => 0x33CBB015#32
  | 4 => 0xB3C9BD97#32
  | 5 => 0x33C7E17D#32
  | 6 => 0xB3C61B15#32
  | 7 => 0x33C469B8#32
  | 8 => 0xB3C2CCC7#32
  | 9 => 0x33C143B0#32
  | 10 => 0xB3BFCDE6#32
  | 11 => 0x33BE6AE7#32
  | 12 => 0xB3BD1A36#32
  | 13 => 0x33BBDB61#32
  | 14 => 0xB3BAADFB#32
  | 15 => 0x33B9919E#32
  | 16 => 0xB3B885EC#32
  | 17 => 0x33B78A8A#32
  | 18 => 0xB3B69F28#32
  | 19 => 0x33B5C377#32
  | 20 => 0xB3B4F732#32
  | 21 => 0x33B43A15#32
  | 22 => 0xB3B38BE5#32
  | 23 => 0x33B2EC6A#32
  | 24 => 0xB3B25B72#32
  | 25 => 0x33B1D8CF#32
  | 26 => 0xB3B16459#32
  | 27 => 0x33B0FDEA#32
  | 28 => 0xB3B0A563#32
  | 29 => 0x33B05AA9#32
  | 30 => 0xB3B01DA5#32
  | 31 => 0x33AFEE43#32
  | 32 => 0xB3AFCC75#32
  | 33 => 0x33AFB831#32
  | 34 => 0xB3AFB170#32
  | 35 => 0x33AFB831#32
  | 36 => 0xB3AFCC75#32
  | 37 => 0x33AFEE43#32
  | 38 => 0xB3B01DA5#32
  | 39 => 0x33B05AA9#32
  | 40 => 0xB3B0A563#32
  | 41 => 0x33B0FDEA#32
  | 42 => 0xB3B16459#32
  | 43 => 0x33B1D8CF#32
  | 44 => 0xB3B25B72#32
  | 45 => 0x33B2EC6A#32
  | 46 => 0xB3B38BE5#32
  | 47 => 0x33B43A15#32
  | 48 => 0xB3B4F732#32
  | 49 => 0x33B5C377#32
  | 50 => 0xB3B69F28#32
  | 51 => 0x33B78A8A#32
  | 52 => 0xB3B885EC#32
  | 53 => 0x33B9919E#32
  | 54 => 0xB3BAADFB#32
  | 55 => 0x33BBDB61#32
  | 56 => 0xB3BD1A36#32
  | 57 => 0x33BE6AE7#32
  | 58 => 0xB3BFCDE6#32
  | 59 => 0x33C143B0#32
  | 60 => 0xB3C2CCC7#32
  | 61 => 0x33C469B8#32
  | 62 => 0xB3C61B15#32
  | 63 => 0x33C7E17D#32
  | 64 => 0xB3C9BD97#32
  | 65 => 0x33CBB015#32
  | 66 => 0xB3CDB9B1#32
  | 67 => 0x33CFDB34#32
  | 68 => 0xB3D21572#32
  | 69 => 0x33D4694B#32
  | 70 => 0xB3D6D7AE#32
  | 71 => 0x33D96196#32
  | 72 => 0xB3DC0810#32
  | 73 => 0x33DECC38#32
  | 74 => 0xB3E1AF3D#32
  | 75 => 0x33E4B25D#32
  | 76 => 0xB3E7D6EF#32
  | 77 => 0x33EB1E5A#32
  | 78 => 0xB3EE8A1F#32
  | 79 => 0x33F21BD6#32
  | 80 => 0xB3F5D532#32
  | 81 => 0x33F9B800#32
  | 82 => 0xB3FDC62E#32
  | 83 => 0x340100E3#32
  | 84 => 0xB403367C#32
  | 85 => 0x3405850C#32
  | 86 => 0xB407EDD1#32
  | 87 => 0x340A721F#32
  | 88 => 0xB40D1360#32
  | 89 => 0x340FD31A#32
  | 90 => 0xB412B2ED#32
  | 91 => 0x3415B495#32
  | 92 => 0xB418D9F0#32
  | 93 => 0x341C2500#32
  | 94 => 0xB41F97EA#32
  | 95 => 0x342334FF#32
  | 96 => 0xB426FEBD#32
  | 97 => 0x342AF7D2#32
  | 98 => 0xB42F2322#32
  | 99 => 0x343383CC#32
  | 100 => 0xB4381D32#32
  | 101 => 0x343CF2FA#32
  | 102 => 0xB4420919#32
  | 103 => 0x344763DA#32
  | 104 => 0xB44D07E6#32
  | 105 => 0x3452FA51#32
  | 106 => 0xB45940A1#32
  | 107 => 0x345FE0DA#32
  | 108 => 0xB466E193#32
  | 109 => 0x346E49FF#32
  | 110 => 0xB4762200#32
  | 111 => 0x347E723F#32
  | 112 => 0xB483A221#32
  | 113 => 0x34885143#32
  | 114 => 0xB48D4C4D#32
  | 115 => 0x349299A5#32
  | 116 => 0xB4984061#32
  | 117 => 0x349E485F#32
  | 118 => 0xB4A4BA5F#32
  | 119 => 0x34ABA023#32
  | 120 => 0xB4B30492#32
  | 121 => 0x34BAF3E5#32
  | 122 => 0xB4C37BD6#32
  | 123 => 0x34CCABDA#32
  | 124 => 0xB4D69568#32
  | 125 => 0x34E14C49#32
  | 126 => 0xB4ECE6F7#32
  | 127 => 0x34F97F13#32
  | _ => 0#32

noncomputable abbrev lit0t0_70 (i : Nat) : BitVec 32 := match i % 128 with
  | 0 => 0x34F97F13#32
  | 1 => 0xB50398F7#32
  | 2 => 0x350B1097#32
  | 3 => 0xB51339CD#32
  | 4 => 0x351C2B08#32
  | 5 => 0xB525FE56#32
  | 6 => 0x3530D21D#32
  | 7 => 0xB53CCA00#32
  | 8 => 0x354A0FF9#32
  | 9 => 0xB558D5BB#32
  | 10 => 0x35695670#32
  | 11 => 0xB57BD8F1#32
  | 12 => 0x3588594C#32
  | 13 => 0xB5942572#32
  | 14 => 0x35A19018#32
  | 15 => 0xB5B0E6EF#32
  | 16 => 0x35C28A3B#32
  | 17 => 0xB5D6F23A#32
  | 18 => 0x35EEB658#32
  | 19 => 0xB6054B76#32
  | 20 => 0x3615C529#32
  | 21 => 0xB6296767#32
  | 22 => 0x3641014B#32
  | 23 => 0xB65DA20C#32
  | 24 => 0x368056F2#32
  | 25 => 0xB695FBC4#32
  | 26 => 0x36B0ED61#32
  | 27 => 0xB6D29E9B#32
  | 28 => 0x36FFBDB2#32
  | 29 => 0xB692EE32#32
  | 30 => 0x391EBB1A#32
  | 31 => 0x3B12D0DF#32
  | 32 => 0x3CA0086D#32
  | 33 => 0x3DBAD58B#32
  | 34 => 0x3E6BB748#32
  | 35 => 0x3EA069FE#32
  | 36 => 0x3E6BB748#32
  | 37 => 0x3DBAD58B#32
  | 38 => 0x3CA0086D#32
  | 39 => 0x3B12D0DF#32
  | 40 => 0x391EBB1A#32
  | 41 => 0xB692EE32#32
  | 42 => 0x36FFBDB2#32
  | 43 => 0xB6D29E9B#32
  | 44 => 0x36B0ED61#32
  | 45 => 0xB695FBC4#32
  | 46 => 0x368056F2#32
  | 47 => 0xB65DA20C#32
  | 48 => 0x3641014B#32
  | 49 => 0xB6296767#32
  | 50 => 0x3615C529#32
  | 51 => 0xB6054B76#32
  | 52 => 0x35EEB658#32
  | 53 => 0xB5D6F23A#32
  | 54 => 0x35C28A3B#32
  | 55 => 0xB5B0E6EF#32
  | 56 => 0x35A19018#32
  | 57 => 0xB5942572#32
  | 58 => 0x3588594C#32
  | 59 => 0xB57BD8F1#32
  | 60 => 0x35695670#32
  | 61 => 0xB558D5BB#32
  | 62 => 0x354A0FF9#32
  | 63 => 0xB53CCA00#32
  | 64 => 0x3530D21D#32
  | 65 => 0xB525FE56#32
  | 66 => 0x351C2B08#32
  | 67 => 0xB51339CD#32
  | 68 => 0x350B1097#32
  | 69 => 0xB50398F7#32
  | 70 => 0x34F97F13#32
  | 71 => 0xB4ECE6F7#32
  | 72 => 0x34E14C49#32
  | 73 => 0xB4D69568#32
  | 74 => 0x34CCABDA#32
  | 75 => 0xB4C37BD6#32
  | 76 => 0x34BAF3E5#32
  | 77 => 0xB4B30492#32
  | 78 => 0x34ABA023#32
  | 79 => 0xB4A4BA5F#32
  | 80 => 0x349E485F#32
  | 81 => 0xB4984061#32
  | 82 => 0x349299A5#32
  | 83 => 0xB48D4C4D#32
  | 84 => 0x34885142#32
  | 85 => 0xB483A221#32
  | 86 => 0x347E723F#32
  | 87 => 0xB4762200#32
  | 88 => 0x346E49FF#32
  | 89 => 0xB466E193#32
  | 90 => 0x345FE0DA#32
  | 91 => 0xB45940A1#32
  | 92 => 0x3452FA51#32
  | 93 => 0xB44D07E6#32
  | 94 => 0x344763DA#32
  | 95 => 0xB4420919#32
  | 96 => 0x343CF2FA#32
  | 97 => 0xB4381D32#32
  | 98 => 0x343383CC#32
  | 99 => 0xB42F2322#32
  | 100 => 0x342AF7D2#32
  | 101 => 0xB426FEBD#32
  | 102 => 0x342334FF#32
  | 103 => 0xB41F97EA#32
  | 104 => 0x341C2500#32
  | 105 => 0xB418D9F0#32
  | 106 => 0x3415B495#32
  | 107 => 0xB412B2ED#32
  | 108 => 0x340FD31A#32
  | 109 => 0xB40D1360#32
  | 110 => 0x340A721F#32
  | 111 => 0xB407EDD1#32
  | 112 => 0x3405850C#32
  | 113 => 0xB403367C#32
  | 114 => 0x340100E3#32
  | 115 => 0xB3FDC62E#32
  | 116 => 0x33F9B800#32
  | 117 => 0xB3F5D532#32
  | 118 => 0x33F21BD6#32
  | 119 => 0xB3EE8A1F#32
  | 120 => 0x33EB1E5A#32
  | 121 => 0xB3E7D6EF#32
  | 122 => 0x33E4B25D#32
  | 123 => 0xB3E1AF3D#32
  | 124 => 0x33DECC38#32
  | 125 => 0xB3DC0810#32
  | 126 => 0x33D96196#32
  | 127 => 0xB3D6D7AE#32
  | _ => 0#32

noncomputable abbrev lit0t0_71 (i : Nat) : BitVec 32 := match i % 128 with
  | 0 => 0x33D4694B#32
  | 1 => 0xB3D21572#32
  | 2 => 0x33CFDB34#32
  | 3 => 0xB3CDB9B1#32
  | 4 => 0x33CBB015#32
  | 5 => 0xB3C9BD97#32
  | 6 => 0x33C7E17D#32
  | 7 => 0xB3C61B15#32
  | 8 => 0x33C469B8#32
  | 9 => 0xB3C2CCC7#32
  | 10 => 0x33C143B0#32
  | 11 => 0xB3BFCDE6#32
  | 12 => 0x33BE6AE7#32
  | 13 => 0xB3BD1A36#32
  | 14 => 0x33BBDB61#32
  | 15 => 0xB3BAADFB#32
  | 16 => 0x33B9919E#32
  | 17 => 0xB3B885EC#32
  | 18 => 0x33B78A8A#32
  | 19 => 0xB3B69F28#32
  | 20 => 0x33B5C377#32
  | 21 => 0xB3B4F732#32
  | 22 => 0x33B43A15#32
  | 23 => 0xB3B38BE5#32
  | 24 => 0x33B2EC6A#32
  | 25 => 0xB3B25B72#32
  | 26 => 0x33B1D8CF#32
  | 27 => 0xB3B16459#32
  | 28 => 0x33B0FDEA#32
  | 29 => 0xB3B0A563#32
  | 30 => 0x33B05AA9#32
  | 31 => 0xB3B01DA5#32
  | 32 => 0x33AFEE43#32
  | 33 => 0xB3AFCC75#32
  | 34 => 0x33AFB831#32
  | 35 => 0xB3AFB170#32
  | 36 => 0x33AFB831#32
  | 37 => 0xB3AFCC75#32
  | 38 => 0x33AFEE43#32
  | 39 => 0xB3B01DA5#32
  | 40 => 0x33B05AA9#32
  | 41 => 0xB3B0A563#32
  | 42 => 0x33B0FDEA#32
  | 43 => 0xB3B16459#32
  | 44 => 0x33B1D8CF#32
  | 45 => 0xB3B25B72#32
  | 46 => 0x33B2EC6A#32
  | 47 => 0xB3B38BE5#32
  | 48 => 0x33B43A15#32
  | 49 => 0xB3B4F732#32
  | 50 => 0x33B5C377#32
  | 51 => 0xB3B69F28#32
  | 52 => 0x33B78A8A#32
  | 53 => 0xB3B885EC#32
  | 54 => 0x33B9919E#32
  | 55 => 0xB3BAADFB#32
  | 56 => 0x33BBDB61#32
  | 57 => 0xB3BD1A36#32
  | 58 => 0x33BE6AE7#32
  | 59 => 0xB3BFCDE6#32
  | 60 => 0x33C143B0#32
  | 61 => 0xB3C2CCC7#32
  | 62 => 0x33C469B8#32
  | 63 => 0xB3C61B15#32
  | 64 => 0x33C7E17D#32
  | 65 => 0xB3C9BD97#32
  | 66 => 0x33CBB015#32
  | 67 => 0xB3CDB9B1#32
  | 68 => 0x33CFDB34#32
  | 69 => 0xB3D21572#32
  | 70 => 0x33D4694B#32
  | 71 => 0xB3D6D7AE#32
  | 72 => 0x33D96196#32
  | 73 => 0xB3DC0810#32
  | 74 => 0x33DECC38#32
  | 75 => 0xB3E1AF3D#32
  | 76 => 0x33E4B25D#32
  | 77 => 0xB3E7D6EF#32
  | 78 => 0x33EB1E5A#32
  | 79 => 0xB3EE8A1F#32
  | 80 => 0x33F21BD6#32
  | 81 => 0xB3F5D532#32
  | 82 => 0x33F9B800#32
  | 83 => 0xB3FDC62E#32
  | 84 => 0x340100E3#32
  | 85 => 0xB403367C#32
  | 86 => 0x3405850C#32
  | 87 => 0xB407EDD1#32
  | 88 => 0x340A721F#32
  | 89 => 0xB40D1360#32
  | 90 => 0x340FD31A#32
  | 91 => 0xB412B2ED#32
  | 92 => 0x3415B495#32
  | 93 => 0xB418D9F0#32
  | 94 => 0x341C2500#32
  | 95 => 0xB41F97EA#32
  | 96 => 0x342334FF#32
  | 97 => 0xB426FEBD#32
  | 98 => 0x342AF7D2#32
  | 99 => 0xB42F2322#32
  | 100 => 0x343383CC#32
  | 101 => 0xB4381D32#32
  | 102 => 0x343CF2FA#32
  | 103 => 0xB4420919#32
  | 104 => 0x344763DA#32
  | 105 => 0xB44D07E6#32
  | 106 => 0x3452FA51#32
  | 107 => 0xB45940A1#32
  | 108 => 0x345FE0DA#32
  | 109 => 0xB466E193#32
  | 110 => 0x346E49FF#32
  | 111 => 0xB4762200#32
  | 112 => 0x347E723F#32
  | 113 => 0xB483A221#32
  | 114 => 0x34885143#32
  | 115 => 0xB48D4C4D#32
  | 116 => 0x349299A5#32
  | 117 => 0xB4984061#32
  | 118 => 0x349E485F#32
  | 119 => 0xB4A4BA5F#32
  | 120 => 0x34ABA023#32
  | 121 => 0xB4B30492#32
  | 122 => 0x34BAF3E5#32
  | 123 => 0xB4C37BD6#32
  | 124 => 0x34CCABDA#32
  | 125 => 0xB4D69568#32
  | 126 => 0x34E14C49#32
  | 127 => 0xB4ECE6F7#32
  | _ => 0#32

noncomputable abbrev lit0t0_72 (i : Nat) : BitVec 32 := match i % 128 with
  | 0 => 0xB4ECE6F7#32
  | 1 => 0x34F97F13#32
  | 2 => 0xB50398F7#32
  | 3 => 0x350B1097#32
  | 4 => 0xB51339CD#32
  | 5 => 0x351C2B08#32
  | 6 => 0xB525FE56#32
  | 7 => 0x3530D21D#32
  | 8 => 0xB53CCA00#32
  | 9 => 0x354A0FF9#32
  | 10 => 0xB558D5BB#32
  | 11 => 0x35695670#32
  | 12 => 0xB57BD8F1#32
  | 13 => 0x3588594C#32
  | 14 => 0xB5942572#32
  | 15 => 0x35A19018#32
  | 16 => 0xB5B0E6EF#32
  | 17 => 0x35C28A3B#32
  | 18 => 0xB5D6F23A#32
  | 19 => 0x35EEB658#32
  | 20 => 0xB6054B76#32
  | 21 => 0x3615C529#32
  | 22 => 0xB6296767#32
  | 23 => 0x3641014B#32
  | 24 => 0xB65DA20C#32
  | 25 => 0x368056F2#32
  | 26 => 0xB695FBC4#32
  | 27 => 0x36B0ED61#32
  | 28 => 0xB6D29E9B#32
  | 29 => 0x36FFBDB2#32
  | 30 => 0xB692EE32#32
  | 31 => 0x391EBB1A#32
  | 32 => 0x3B12D0DF#32
  | 33 => 0x3CA0086D#32
  | 34 => 0x3DBAD58B#32
  | 35 => 0x3E6BB748#32
  | 36 => 0x3EA069FE#32
  | 37 => 0x3E6BB748#32
  | 38 => 0x3DBAD58B#32
  | 39 => 0x3CA0086D#32
  | 40 => 0x3B12D0DF#32
  | 41 => 0x391EBB1A#32
  | 42 => 0xB692EE32#32
  | 43 => 0x36FFBDB2#32
  | 44 => 0xB6D29E9B#32
  | 45 => 0x36B0ED61#32
  | 46 => 0xB695FBC4#32
  | 47 => 0x368056F2#32
  | 48 => 0xB65DA20C#32
  | 49 => 0x3641014B#32
  | 50 => 0xB6296767#32
  | 51 => 0x3615C529#32
  | 52 => 0xB6054B76#32
  | 53 => 0x35EEB658#32
  | 54 => 0xB5D6F23A#32
  | 55 => 0x35C28A3B#32
  | 56 => 0xB5B0E6EF#32
  | 57 => 0x35A19018#32
  | 58 => 0xB5942572#32
  | 59 => 0x3588594C#32
  | 60 => 0xB57BD8F1#32
  | 61 => 0x35695670#32
  | 62 => 0xB558D5BB#32
  | 63 => 0x354A0FF9#32
  | 64 => 0xB53CCA00#32
  | 65 => 0x3530D21D#32
  | 66 => 0xB525FE56#32
  | 67 => 0x351C2B08#32
  | 68 => 0xB51339CD#32
  | 69 => 0x350B1097#32
  | 70 => 0xB50398F7#32
  | 71 => 0x34F97F13#32
  | 72 => 0xB4ECE6F7#32
  | 73 => 0x34E14C49#32
  | 74 => 0xB4D69568#32
  | 75 => 0x34CCABDA#32
  | 76 => 0xB4C37BD6#32
  | 77 => 0x34BAF3E5#32
  | 78 => 0xB4B30492#32
  | 79 => 0x34ABA023#32
  | 80 => 0xB4A4BA5F#32
  | 81 => 0x349E485F#32
  | 82 => 0xB4984061#32
  | 83 => 0x349299A5#32
  | 84 => 0xB48D4C4D#32
  | 85 => 0x34885143#32
  | 86 => 0xB483A221#32
  | 87 => 0x347E723F#32
  | 88 => 0xB4762200#32
  | 89 => 0x346E49FF#32
  | 90 => 0xB466E193#32
  | 91 => 0x345FE0DA#32
  | 92 => 0xB45940A1#32
  | 93 => 0x3452FA51#32
  | 94 => 0xB44D07E6#32
  | 95 => 0x344763DA#32
  | 96 => 0xB4420919#32
  | 97 => 0x343CF2FA#32
  | 98 => 0xB4381D32#32
  | 99 => 0x343383CC#32
  | 100 => 0xB42F2322#32
  | 101 => 0x342AF7D2#32
  | 102 => 0xB426FEBD#32
  | 103 => 0x342334FF#32
  | 104 => 0xB41F97EA#32
  | 105 => 0x341C2500#32
  | 106 => 0xB418D9F0#32
  | 107 => 0x3415B495#32
  | 108 => 0xB412B2ED#32
  | 109 => 0x340FD31A#32
  | 110 => 0xB40D1360#32
  | 111 => 0x340A721F#32
  | 112 => 0xB407EDD1#32
  | 113 => 0x3405850C#32
  | 114 => 0xB403367C#32
  | 115 => 0x340100E3#32
  | 116 => 0xB3FDC62E#32
  | 117 => 0x33F9B800#32
  | 118 => 0xB3F5D532#32
  | 119 => 0x33F21BD6#32
  | 120 => 0xB3EE8A1F#32
  | 121 => 0x33EB1E5A#32
  | 122 => 0xB3E7D6EF#32
  | 123 => 0x33E4B25D#32
  | 124 => 0xB3E1AF3D#32
  | 125 => 0x33DECC38#32
  | 126 => 0xB3DC0810#32
  | 127 => 0x33D96196#32
  | _ => 0#32

noncomputable abbrev lit0t0_73 (i : Nat) : BitVec 32 := match i % 128 with
  | 0 => 0xB3D6D7AE#32
  | 1 => 0x33D4694B#32
  | 2 => 0xB3D21572#32
  | 3 => 0x33CFDB34#32
  | 4 => 0xB3CDB9B1#32
  | 5 => 0x33CBB015#32
  | 6 => 0xB3C9BD97#32
  | 7 => 0x33C7E17D#32
  | 8 => 0xB3C61B15#32
  | 9 => 0x33C469B8#32
  | 10 => 0xB3C2CCC7#32
  | 11 => 0x33C143B0#32
  | 12 => 0xB3BFCDE6#32
  | 13 => 0x33BE6AE7#32
  | 14 => 0xB3BD1A36#32
  | 15 => 0x33BBDB61#32
  | 16 => 0xB3BAADFB#32
  | 17 => 0x33B9919E#32
  | 18 => 0xB3B885EC#32
  | 19 => 0x33B78A8A#32
  | 20 => 0xB3B69F28#32
  | 21 => 0x33B5C377#32
  | 22 => 0xB3B4F732#32
  | 23 => 0x33B43A15#32
  | 24 => 0xB3B38BE5#32
  | 25 => 0x33B2EC6A#32
  | 26 => 0xB3B25B72#32
  | 27 => 0x33B1D8CF#32
  | 28 => 0xB3B16459#32
  | 29 => 0x33B0FDEA#32
  | 30 => 0xB3B0A563#32
  | 31 => 0x33B05AA9#32
  | 32 => 0xB3B01DA5#32
  | 33 => 0x33AFEE43#32
  | 34 => 0xB3AFCC75#32
  | 35 => 0x33AFB831#32
  | 36 => 0xB3AFB170#32
  | 37 => 0x33AFB831#32
  | 38 => 0xB3AFCC75#32
  | 39 => 0x33AFEE43#32
  | 40 => 0xB3B01DA5#32
  | 41 => 0x33B05AA9#32
  | 42 => 0xB3B0A563#32
  | 43 => 0x33B0FDEA#32
  | 44 => 0xB3B16459#32
  | 45 => 0x33B1D8CF#32
  | 46 => 0xB3B25B72#32
  | 47 => 0x33B2EC6A#32
  | 48 => 0xB3B38BE5#32
  | 49 => 0x33B43A15#32
  | 50 => 0xB3B4F732#32
  | 51 => 0x33B5C377#32
  | 52 => 0xB3B69F28#32
  | 53 => 0x33B78A8A#32
  | 54 => 0xB3B885EC#32
  | 55 => 0x33B9919E#32
  | 56 => 0xB3BAADFB#32
  | 57 => 0x33BBDB61#32
  | 58 => 0xB3BD1A36#32
  | 59 => 0x33BE6AE7#32
  | 60 => 0xB3BFCDE6#32
  | 61 => 0x33C143B0#32
  | 62 => 0xB3C2CCC7#32
  | 63 => 0x33C469B8#32
  | 64 => 0xB3C61B15#32
  | 65 => 0x33C7E17D#32
  | 66 => 0xB3C9BD97#32
  | 67 => 0x33CBB015#32
  | 68 => 0xB3CDB9B1#32
  | 69 => 0x33CFDB34#32
  | 70 => 0xB3D21572#32
  | 71 => 0x33D4694B#32
  | 72 => 0xB3D6D7AE#32
  | 73 => 0x33D96196#32
  | 74 => 0xB3DC0810#32
  | 75 => 0x33DECC38#32
  | 76 => 0xB3E1AF3D#32
  | 77 => 0x33E4B25D#32
  | 78 => 0xB3E7D6EF#32
  | 79 => 0x33EB1E5A#32
  | 80 => 0xB3EE8A1F#32
  | 81 => 0x33F21BD6#32
  | 82 => 0xB3F5D532#32
  | 83 => 0x33F9B800#32
  | 84 => 0xB3FDC62E#32
  | 85 => 0x340100E3#32
  | 86 => 0xB403367C#32
  | 87 => 0x3405850C#32
  | 88 => 0xB407EDD1#32
  | 89 => 0x340A721F#32
  | 90 => 0xB40D1360#32
  | 91 => 0x340FD31A#32
  | 92 => 0xB412B2ED#32
  | 93 => 0x3415B495#32
  | 94 => 0xB418D9F0#32
  | 95 => 0x341C2500#32
  | 96 => 0xB41F97EA#32
  | 97 => 0x342334FF#32
  | 98 => 0xB426FEBD#32
  | 99 => 0x342AF7D2#32
  | 100 => 0xB42F2322#32
  | 101 => 0x343383CC#32
  | 102 => 0xB4381D32#32
  | 103 => 0x343CF2FA#32
  | 104 => 0xB4420919#32
  | 105 => 0x344763DA#32
  | 106 => 0xB44D07E6#32
  | 107 => 0x3452FA51#32
  | 108 => 0xB45940A1#32
  | 109 => 0x345FE0DA#32
  | 110 => 0xB466E193#32
  | 111 => 0x346E49FF#32
  | 112 => 0xB4762200#32
  | 113 => 0x347E723F#32
  | 114 => 0xB483A221#32
  | 115 => 0x34885142#32
  | 116 => 0xB48D4C4D#32
  | 117 => 0x349299A5#32
  | 118 => 0xB4984061#32
  | 119 => 0x349E485F#32
  | 120 => 0xB4A4BA5F#32
  | 121 => 0x34ABA023#32
  | 122 => 0xB4B30492#32
  | 123 => 0x34BAF3E5#32
  | 124 => 0xB4C37BD6#32
  | 125 => 0x34CCABDA#32
  | 126 => 0xB4D69568#32
  | 127 => 0x34E14C49#32
  | _ => 0#32

noncomputable abbrev lit0t0_74 (i : Nat) : BitVec 32 := match i % 128 with
  | 0 => 0x34E14C49#32
  | 1 => 0xB4ECE6F7#32
  | 2 => 0x34F97F13#32
  | 3 => 0xB50398F7#32
  | 4 => 0x350B1097#32
  | 5 => 0xB51339CD#32
  | 6 => 0x351C2B08#32
  | 7 => 0xB525FE56#32
  | 8 => 0x3530D21D#32
  | 9 => 0xB53CCA00#32
  | 10 => 0x354A0FF9#32
  | 11 => 0xB558D5BB#32
  | 12 => 0x35695670#32
  | 13 => 0xB57BD8F1#32
  | 14 => 0x3588594C#32
  | 15 => 0xB5942572#32
  | 16 => 0x35A19018#32
  | 17 => 0xB5B0E6EF#32
  | 18 => 0x35C28A3B#32
  | 19 => 0xB5D6F23A#32
  | 20 => 0x35EEB658#32
  | 21 => 0xB6054B76#32
  | 22 => 0x3615C529#32
  | 23 => 0xB6296767#32
  | 24 => 0x3641014B#32
  | 25 => 0xB65DA20C#32
  | 26 => 0x368056F2#32
  | 27 => 0xB695FBC4#32
  | 28 => 0x36B0ED61#32
  | 29 => 0xB6D29E9B#32
  | 30 => 0x36FFBDB2#32
  | 31 => 0xB692EE32#32
  | 32 => 0x391EBB1A#32
  | 33 => 0x3B12D0DF#32
  | 34 => 0x3CA0086D#32
  | 35 => 0x3DBAD58B#32
  | 36 => 0x3E6BB748#32
  | 37 => 0x3EA069FE#32
  | 38 => 0x3E6BB748#32
  | 39 => 0x3DBAD58B#32
  | 40 => 0x3CA0086D#32
  | 41 => 0x3B12D0DF#32
  | 42 => 0x391EBB1A#32
  | 43 => 0xB692EE32#32
  | 44 => 0x36FFBDB2#32
  | 45 => 0xB6D29E9B#32
  | 46 => 0x36B0ED61#32
  | 47 => 0xB695FBC4#32
  | 48 => 0x368056F2#32
  | 49 => 0xB65DA20C#32
  | 50 => 0x3641014B#32
  | 51 => 0xB6296767#32
  | 52 => 0x3615C529#32
  | 53 => 0xB6054B76#32
  | 54 => 0x35EEB658#32
  | 55 => 0xB5D6F23A#32
  | 56 => 0x35C28A3B#32
  | 57 => 0xB5B0E6EF#32
  | 58 => 0x35A19018#32
  | 59 => 0xB5942572#32
  | 60 => 0x3588594C#32
  | 61 => 0xB57BD8F1#32
  | 62 => 0x35695670#32
  | 63 => 0xB558D5BB#32
  | 64 => 0x354A0FF9#32
  | 65 => 0xB53CCA00#32
  | 66 => 0x3530D21D#32
  | 67 => 0xB525FE56#32
  | 68 => 0x351C2B08#32
  | 69 => 0xB51339CD#32
  | 70 => 0x350B1097#32
  | 71 => 0xB50398F7#32
  | 72 => 0x34F97F13#32
  | 73 => 0xB4ECE6F7#32
  | 74 => 0x34E14C49#32
  | 75 => 0xB4D69568#32
  | 76 => 0x34CCABDA#32
  | 77 => 0xB4C37BD6#32
  | 78 => 0x34BAF3E5#32
  | 79 => 0xB4B30492#32
  | 80 => 0x34ABA023#32
  | 81 => 0xB4A4BA5F#32
  | 82 => 0x349E485F#32
  | 83 => 0xB4984061#32
  | 84 => 0x349299A5#32
  | 85 => 0xB48D4C4D#32
  | 86 => 0x34885143#32
  | 87 => 0xB483A221#32
  | 88 => 0x347E723F#32
  | 89 => 0xB4762200#32
  | 90 => 0x346E49FF#32
  | 91 => 0xB466E193#32
  | 92 => 0x345FE0DA#32
  | 93 => 0xB45940A1#32
  | 94 => 0x3452FA51#32
  | 95 => 0xB44D07E6#32
  | 96 => 0x344763DA#32
  | 97 => 0xB4420919#32
  | 98 => 0x343CF2FA#32
  | 99 => 0xB4381D32#32
  | 100 => 0x343383CC#32
  | 101 => 0xB42F2322#32
  | 102 => 0x342AF7D2#32
  | 103 => 0xB426FEBD#32
  | 104 => 0x342334FF#32
  | 105 => 0xB41F97EA#32
  | 106 => 0x341C2500#32
  | 107 => 0xB418D9F0#32
  | 108 => 0x3415B495#32
  | 109 => 0xB412B2ED#32
  | 110 => 0x340FD31A#32
  | 111 => 0xB40D1360#32
  | 112 => 0x340A721F#32
  | 113 => 0xB407EDD1#32
  | 114 => 0x3405850C#32
  | 115 => 0xB403367C#32
  | 116 => 0x340100E3#32
  | 117 => 0xB3FDC62E#32
  | 118 => 0x33F9B800#32
  | 119 => 0xB3F5D532#32
  | 120 => 0x33F21BD6#32
  | 121 => 0xB3EE8A1F#32
  | 122 => 0x33EB1E5A#32
  | 123 => 0xB3E7D6EF#32
  | 124 => 0x33E4B25D#32
  | 125 => 0xB3E1AF3D#32
  | 126 => 0x33DECC38#32
  | 127 => 0xB3DC0810#32
  | _ => 0#32

noncomputable abbrev lit0t0_75 (i : Nat) : BitVec 32 := match i % 128 with
  | 0 => 0x33D96196#32
  | 1 => 0xB3D6D7AE#32
  | 2 => 0x33D4694B#32
  | 3 => 0xB3D21572#32
  | 4 => 0x33CFDB34#32
  | 5 => 0xB3CDB9B1#32
  | 6 => 0x33CBB015#32
  | 7 => 0xB3C9BD97#32
  | 8 => 0x33C7E17D#32
  | 9 => 0xB3C61B15#32
  | 10 => 0x33C469B8#32
  | 11 => 0xB3C2CCC7#32
  | 12 => 0x33C143B0#32
  | 13 => 0xB3BFCDE6#32
  | 14 => 0x33BE6AE7#32
  | 15 => 0xB3BD1A36#32
  | 16 => 0x33BBDB61#32
  | 17 => 0xB3BAADFB#32
  | 18 => 0x33B9919E#32
  | 19 => 0xB3B885EC#32
  | 20 => 0x33B78A8A#32
  | 21 => 0xB3B69F28#32
  | 22 => 0x33B5C377#32
  | 23 => 0xB3B4F732#32
  | 24 => 0x33B43A15#32
  | 25 => 0xB3B38BE5#32
  | 26 => 0x33B2EC6A#32
  | 27 => 0xB3B25B72#32
  | 28 => 0x33B1D8CF#32
  | 29 => 0xB3B16459#32
  | 30 => 0x33B0FDEA#32
  | 31 => 0xB3B0A563#32
  | 32 => 0x33B05AA9#32
  | 33 => 0xB3B01DA5#32
  | 34 => 0x33AFEE43#32
  | 35 => 0xB3AFCC75#32
  | 36 => 0x33AFB831#32
  | 37 => 0xB3AFB170#32
  | 38 => 0x33AFB831#32
  | 39 => 0xB3AFCC75#32
  | 40 => 0x33AFEE43#32
  | 41 => 0xB3B01DA5#32
  | 42 => 0x33B05AA9#32
  | 43 => 0xB3B0A563#32
  | 44 => 0x33B0FDEA#32
  | 45 => 0xB3B16459#32
  | 46 => 0x33B1D8CF#32
  | 47 => 0xB3B25B72#32
  | 48 => 0x33B2EC6A#32
  | 49 => 0xB3B38BE5#32
  | 50 => 0x33B43A15#32
  | 51 => 0xB3B4F732#32
  | 52 => 0x33B5C377#32
  | 53 => 0xB3B69F28#32
  | 54 => 0x33B78A8A#32
  | 55 => 0xB3B885EC#32
  | 56 => 0x33B9919E#32
  | 57 => 0xB3BAADFB#32
  | 58 => 0x33BBDB61#32
  | 59 => 0xB3BD1A36#32
  | 60 => 0x33BE6AE7#32
  | 61 => 0xB3BFCDE6#32
  | 62 => 0x33C143B0#32
  | 63 => 0xB3C2CCC7#32
  | 64 => 0x33C469B8#32
  | 65 => 0xB3C61B15#32
  | 66 => 0x33C7E17D#32
  | 67 => 0xB3C9BD97#32
  | 68 => 0x33CBB015#32
  | 69 => 0xB3CDB9B1#32
  | 70 => 0x33CFDB34#32
  | 71 => 0xB3D21572#32
  | 72 => 0x33D4694B#32
  | 73 => 0xB3D6D7AE#32
  | 74 => 0x33D96196#32
  | 75 => 0xB3DC0810#32
  | 76 => 0x33DECC38#32
  | 77 => 0xB3E1AF3D#32
  | 78 => 0x33E4B25D#32
  | 79 => 0xB3E7D6EF#32
  | 80 => 0x33EB1E5A#32
  | 81 => 0xB3EE8A1F#32
  | 82 => 0x33F21BD6#32
  | 83 => 0xB3F5D532#32
  | 84 => 0x33F9B800#32
  | 85 => 0xB3FDC62E#32
  | 86 => 0x340100E3#32
  | 87 => 0xB403367C#32
  | 88 => 0x3405850C#32
  | 89 => 0xB407EDD1#32
  | 90 => 0x340A721F#32
  | 91 => 0xB40D1360#32
  | 92 => 0x340FD31A#32
  | 93 => 0xB412B2ED#32
  | 94 => 0x3415B495#32
  | 95 => 0xB418D9F0#32
  | 96 => 0x341C2500#32
  | 97 => 0xB41F97EA#32
  | 98 => 0x342334FF#32
  | 99 => 0xB426FEBD#32
  | 100 => 0x342AF7D2#32
  | 101 => 0xB42F2322#32
  | 102 => 0x343383CC#32
  | 103 => 0xB4381D32#32
  | 104 => 0x343CF2FA#32
  | 105 => 0xB4420919#32
  | 106 => 0x344763DA#32
  | 107 => 0xB44D07E6#32
  | 108 => 0x3452FA51#32
  | 109 => 0xB45940A1#32
  | 110 => 0x345FE0DA#32
  | 111 => 0xB466E193#32
  | 112 => 0x346E49FF#32
  | 113 => 0xB4762200#32
  | 114 => 0x347E723F#32
  | 115 => 0xB483A221#32
  | 116 => 0x34885142#32
  | 117 => 0xB48D4C4D#32
  | 118 => 0x349299A5#32
  | 119 => 0xB4984061#32
  | 120 => 0x349E485F#32
  | 121 => 0xB4A4BA5F#32
  | 122 => 0x34ABA023#32
  | 123 => 0xB4B30492#32
  | 124 => 0x34BAF3E5#32
  | 125 => 0xB4C37BD6#32
  | 126 => 0x34CCABDA#32
  | 127 => 0xB4D69568#32
  | _ => 0#32

noncomputable abbrev lit0t0_76 (i : Nat) : BitVec 32 := match i % 128 with
  | 0 => 0xB4D69568#32
  | 1 => 0x34E14C49#32
  | 2 => 0xB4ECE6F7#32
  | 3 => 0x34F97F13#32
  | 4 => 0xB50398F7#32
  | 5 => 0x350B1097#32
  | 6 => 0xB51339CD#32
  | 7 => 0x351C2B08#32
  | 8 => 0xB525FE56#32
  | 9 => 0x3530D21D#32
  | 10 => 0xB53CCA00#32
  | 11 => 0x354A0FF9#32
  | 12 => 0xB558D5BB#32
  | 13 => 0x35695670#32
  | 14 => 0xB57BD8F1#32
  | 15 => 0x3588594C#32
  | 16 => 0xB5942572#32
  | 17 => 0x35A19018#32
  | 18 => 0xB5B0E6EF#32
  | 19 => 0x35C28A3B#32
  | 20 => 0xB5D6F23A#32
  | 21 => 0x35EEB658#32
  | 22 => 0xB6054B76#32
  | 23 => 0x3615C529#32
  | 24 => 0xB6296767#32
  | 25 => 0x3641014B#32
  | 26 => 0xB65DA20C#32
  | 27 => 0x368056F2#32
  | 28 => 0xB695FBC4#32
  | 29 => 0x36B0ED61#32
  | 30 => 0xB6D29E9B#32
  | 31 => 0x36FFBDB2#32
  | 32 => 0xB692EE32#32
  | 33 => 0x391EBB1A#32
  | 34 => 0x3B12D0DF#32
  | 35 => 0x3CA0086D#32
  | 36 => 0x3DBAD58B#32
  | 37 => 0x3E6BB748#32
  | 38 => 0x3EA069FE#32
  | 39 => 0x3E6BB748#32
  | 40 => 0x3DBAD58B#32
  | 41 => 0x3CA0086D#32
  | 42 => 0x3B12D0DF#32
  | 43 => 0x391EBB1A#32
  | 44 => 0xB692EE32#32
  | 45 => 0x36FFBDB2#32
  | 46 => 0xB6D29E9B#32
  | 47 => 0x36B0ED61#32
  | 48 => 0xB695FBC4#32
  | 49 => 0x368056F2#32
  | 50 => 0xB65DA20C#32
  | 51 => 0x3641014B#32
  | 52 => 0xB6296767#32
  | 53 => 0x3615C529#32
  | 54 => 0xB6054B76#32
  | 55 => 0x35EEB658#32
  | 56 => 0xB5D6F23A#32
  | 57 => 0x35C28A3B#32
  | 58 => 0xB5B0E6EF#32
  | 59 => 0x35A19018#32
  | 60 => 0xB5942572#32
  | 61 => 0x3588594C#32
  | 62 => 0xB57BD8F1#32
  | 63 => 0x35695670#32
  | 64 => 0xB558D5BB#32
  | 65 => 0x354A0FF9#32
  | 66 => 0xB53CCA00#32
  | 67 => 0x3530D21D#32
  | 68 => 0xB525FE56#32
  | 69 => 0x351C2B08#32
  | 70 => 0xB51339CD#32
  | 71 => 0x350B1097#32
  | 72 => 0xB50398F7#32
  | 73 => 0x34F97F13#32
  | 74 => 0xB4ECE6F7#32
  | 75 => 0x34E14C49#32
  | 76 => 0xB4D69568#32
  | 77 => 0x34CCABDA#32
  | 78 => 0xB4C37BD6#32
  | 79 => 0x34BAF3E5#32
  | 80 => 0xB4B30492#32
  | 81 => 0x34ABA023#32
  | 82 => 0xB4A4BA5F#32
  | 83 => 0x349E485F#32
  | 84 => 0xB4984061#32
  | 85 => 0x349299A5#32
  | 86 => 0xB48D4C4D#32
  | 87 => 0x34885143#32
  | 88 => 0xB483A221#32
  | 89 => 0x347E723F#32
  | 90 => 0xB4762200#32
  | 91 => 0x346E49FF#32
  | 92 => 0xB466E193#32
  | 93 => 0x345FE0DA#32
  | 94 => 0xB45940A1#32
  | 95 => 0x3452FA51#32
  | 96 => 0xB44D07E6#32
  | 97 => 0x344763DA#32
  | 98 => 0xB4420919#32
  | 99 => 0x343CF2FA#32
  | 100 => 0xB4381D32#32
  | 101 => 0x343383CC#32
  | 102 => 0xB42F2322#32
  | 103 => 0x342AF7D2#32
  | 104 => 0xB426FEBD#32
  | 105 => 0x342334FF#32
  | 106 => 0xB41F97EA#32
  | 107 => 0x341C2500#32
  | 108 => 0xB418D9F0#32
  | 109 => 0x3415B495#32
  | 110 => 0xB412B2ED#32
  | 111 => 0x340FD31A#32
  | 112 => 0xB40D1360#32
  | 113 => 0x340A721F#32
  | 114 => 0xB407EDD1#32
  | 115 => 0x3405850C#32
  | 116 => 0xB403367C#32
  | 117 => 0x340100E3#32
  | 118 => 0xB3FDC62E#32
  | 119 => 0x33F9B800#32
  | 120 => 0xB3F5D532#32
  | 121 => 0x33F21BD6#32
  | 122 => 0xB3EE8A1F#32
  | 123 => 0x33EB1E5A#32
  | 124 => 0xB3E7D6EF#32
  | 125 => 0x33E4B25D#32
  | 126 => 0xB3E1AF3D#32
  | 127 => 0x33DECC38#32
  | _ => 0#32

noncomputable abbrev lit0t0_77 (i : Nat) : BitVec 32 := match i % 128 with
  | 0 => 0xB3DC0810#32
  | 1 => 0x33D96196#32
  | 2 => 0xB3D6D7AE#32
  | 3 => 0x33D4694B#32
  | 4 => 0xB3D21572#32
  | 5 => 0x33CFDB34#32
  | 6 => 0xB3CDB9B1#32
  | 7 => 0x33CBB015#32
  | 8 => 0xB3C9BD97#32
  | 9 => 0x33C7E17D#32
  | 10 => 0xB3C61B15#32
  | 11 => 0x33C469B8#32
  | 12 => 0xB3C2CCC7#32
  | 13 => 0x33C143B0#32
  | 14 => 0xB3BFCDE6#32
  | 15 => 0x33BE6AE7#32
  | 16 => 0xB3BD1A36#32
  | 17 => 0x33BBDB61#32
  | 18 => 0xB3BAADFB#32
  | 19 => 0x33B9919E#32
  | 20 => 0xB3B885EC#32
  | 21 => 0x33B78A8A#32
  | 22 => 0xB3B69F28#32
  | 23 => 0x33B5C377#32
  | 24 => 0xB3B4F732#32
  | 25 => 0x33B43A15#32
  | 26 => 0xB3B38BE5#32
  | 27 => 0x33B2EC6A#32
  | 28 => 0xB3B25B72#32
  | 29 => 0x33B1D8CF#32
  | 30 => 0xB3B16459#32
  | 31 => 0x33B0FDEA#32
  | 32 => 0xB3B0A563#32
  | 33 => 0x33B05AA9#32
  | 34 => 0xB3B01DA5#32
  | 35 => 0x33AFEE43#32
  | 36 => 0xB3AFCC75#32
  | 37 => 0x33AFB831#32
  | 38 => 0xB3AFB170#32
  | 39 => 0x33AFB831#32
  | 40 => 0xB3AFCC75#32
  | 41 => 0x33AFEE43#32
  | 42 => 0xB3B01DA5#32
  | 43 => 0x33B05AA9#32
  | 44 => 0xB3B0A563#32
  | 45 => 0x33B0FDEA#32
  | 46 => 0xB3B16459#32
  | 47 => 0x33B1D8CF#32
  | 48 => 0xB3B25B72#32
  | 49 => 0x33B2EC6A#32
  | 50 => 0xB3B38BE5#32
  | 51 => 0x33B43A15#32
  | 52 => 0xB3B4F732#32
  | 53 => 0x33B5C377#32
  | 54 => 0xB3B69F28#32
  | 55 => 0x33B78A8A#32
  | 56 => 0xB3B885EC#32
  | 57 => 0x33B9919E#32
  | 58 => 0xB3BAADFB#32
  | 59 => 0x33BBDB61#32
  | 60 => 0xB3BD1A36#32
  | 61 => 0x33BE6AE7#32
  | 62 => 0xB3BFCDE6#32
  | 63 => 0x33C143B0#32
  | 64 => 0xB3C2CCC7#32
  | 65 => 0x33C469B8#32
  | 66 => 0xB3C61B15#32
  | 67 => 0x33C7E17D#32
  | 68 => 0xB3C9BD97#32
  | 69 => 0x33CBB015#32
  | 70 => 0xB3CDB9B1#32
  | 71 => 0x33CFDB34#32
  | 72 => 0xB3D21572#32
  | 73 => 0x33D4694B#32
  | 74 => 0xB3D6D7AE#32
  | 75 => 0x33D96196#32
  | 76 => 0xB3DC0810#32
  | 77 => 0x33DECC38#32
  | 78 => 0xB3E1AF3D#32
  | 79 => 0x33E4B25D#32
  | 80 => 0xB3E7D6EF#32
  | 81 => 0x33EB1E5A#32
  | 82 => 0xB3EE8A1F#32
  | 83 => 0x33F21BD6#32
  | 84 => 0xB3F5D532#32
  | 85 => 0x33F9B800#32
  | 86 => 0xB3FDC62E#32
  | 87 => 0x340100E3#32
  | 88 => 0xB403367C#32
  | 89 => 0x3405850C#32
  | 90 => 0xB407EDD1#32
  | 91 => 0x340A721F#32
  | 92 => 0xB40D1360#32
  | 93 => 0x340FD31A#32
  | 94 => 0xB412B2ED#32
  | 95 => 0x3415B495#32
  | 96 => 0xB418D9F0#32
  | 97 => 0x341C2500#32
  | 98 => 0xB41F97EA#32
  | 99 => 0x342334FF#32
  | 100 => 0xB426FEBD#32
  | 101 => 0x342AF7D2#32
  | 102 => 0xB42F2322#32
  | 103 => 0x343383CC#32
  | 104 => 0xB4381D32#32
  | 105 => 0x343CF2FA#32
  | 106 => 0xB4420919#32
  | 107 => 0x344763DA#32
  | 108 => 0xB44D07E6#32
  | 109 => 0x3452FA51#32
  | 110 => 0xB45940A1#32
  | 111 => 0x345FE0DA#32
  | 112 => 0xB466E193#32
  | 113 => 0x346E49FF#32
  | 114 => 0xB4762200#32
  | 115 => 0x347E723F#32
  | 116 => 0xB483A221#32
  | 117 => 0x34885142#32
  | 118 => 0xB48D4C4D#32
  | 119 => 0x349299A5#32
  | 120 => 0xB4984061#32
  | 121 => 0x349E485F#32
  | 122 => 0xB4A4BA5F#32
  | 123 => 0x34ABA023#32
  | 124 => 0xB4B30492#32
  | 125 => 0x34BAF3E5#32
  | 126 => 0xB4C37BD6#32
  | 127 => 0x34CCABDA#32
  | _ => 0#32

noncomputable abbrev lit0t0_78 (i : Nat) : BitVec 32 := match i % 128 with
  | 0 => 0x34CCABDA#32
  | 1 => 0xB4D69568#32
  | 2 => 0x34E14C49#32
  | 3 => 0xB4ECE6F7#32
  | 4 => 0x34F97F13#32
  | 5 => 0xB50398F7#32
  | 6 => 0x350B1097#32
  | 7 => 0xB51339CD#32
  | 8 => 0x351C2B08#32
  | 9 => 0xB525FE56#32
  | 10 => 0x3530D21D#32
  | 11 => 0xB53CCA00#32
  | 12 => 0x354A0FF9#32
  | 13 => 0xB558D5BB#32
  | 14 => 0x35695670#32
  | 15 => 0xB57BD8F1#32
  | 16 => 0x3588594C#32
  | 17 => 0xB5942572#32
  | 18 => 0x35A19018#32
  | 19 => 0xB5B0E6EF#32
  | 20 => 0x35C28A3B#32
  | 21 => 0xB5D6F23A#32
  | 22 => 0x35EEB658#32
  | 23 => 0xB6054B76#32
  | 24 => 0x3615C529#32
  | 25 => 0xB6296767#32
  | 26 => 0x3641014B#32
  | 27 => 0xB65DA20C#32
  | 28 => 0x368056F2#32
  | 29 => 0xB695FBC4#32
  | 30 => 0x36B0ED61#32
  | 31 => 0xB6D29E9B#32
  | 32 => 0x36FFBDB2#32
  | 33 => 0xB692EE32#32
  | 34 => 0x391EBB1A#32
  | 35 => 0x3B12D0DF#32
  | 36 => 0x3CA0086D#32
  | 37 => 0x3DBAD58B#32
  | 38 => 0x3E6BB748#32
  | 39 => 0x3EA069FE#32
  | 40 => 0x3E6BB748#32
  | 41 => 0x3DBAD58B#32
  | 42 => 0x3CA0086D#32
  | 43 => 0x3B12D0DF#32
  | 44 => 0x391EBB1A#32
  | 45 => 0xB692EE32#32
  | 46 => 0x36FFBDB2#32
  | 47 => 0xB6D29E9B#32
  | 48 => 0x36B0ED61#32
  | 49 => 0xB695FBC4#32
  | 50 => 0x368056F2#32
  | 51 => 0xB65DA20C#32
  | 52 => 0x3641014B#32
  | 53 => 0xB6296767#32
  | 54 => 0x3615C529#32
  | 55 => 0xB6054B76#32
  | 56 => 0x35EEB658#32
  | 57 => 0xB5D6F23A#32
  | 58 => 0x35C28A3B#32
  | 59 => 0xB5B0E6EF#32
  | 60 => 0x35A19018#32
  | 61 => 0xB5942572#32
  | 62 => 0x3588594C#32
  | 63 => 0xB57BD8F1#32
  | 64 => 0x35695670#32
  | 65 => 0xB558D5BB#32
  | 66 => 0x354A0FF9#32
  | 67 => 0xB53CCA00#32
  | 68 => 0x3530D21D#32
  | 69 => 0xB525FE56#32
  | 70 => 0x351C2B08#32
  | 71 => 0xB51339CD#32
  | 72 => 0x350B1097#32
  | 73 => 0xB50398F7#32
  | 74 => 0x34F97F13#32
  | 75 => 0xB4ECE6F7#32
  | 76 => 0x34E14C49#32
  | 77 => 0xB4D69568#32
  | 78 => 0x34CCABDA#32
  | 79 => 0xB4C37BD6#32
  | 80 => 0x34BAF3E5#32
  | 81 => 0xB4B30492#32
  | 82 => 0x34ABA023#32
  | 83 => 0xB4A4BA5F#32
  | 84 => 0x349E485F#32
  | 85 => 0xB4984061#32
  | 86 => 0x349299A5#32
  | 87 => 0xB48D4C4D#32
  | 88 => 0x34885143#32
  | 89 => 0xB483A221#32
  | 90 => 0x347E723F#32
  | 91 => 0xB4762200#32
  | 92 => 0x346E49FF#32
  | 93 => 0xB466E193#32
  | 94 => 0x345FE0DA#32
  | 95 => 0xB45940A1#32
  | 96 => 0x3452FA51#32
  | 97 => 0xB44D07E6#32
  | 98 => 0x344763DA#32
  | 99 => 0xB4420919#32
  | 100 => 0x343CF2FA#32
  | 101 => 0xB4381D32#32
  | 102 => 0x343383CC#32
  | 103 => 0xB42F2322#32
  | 104 => 0x342AF7D2#32
  | 105 => 0xB426FEBD#32
  | 106 => 0x342334FF#32
  | 107 => 0xB41F97EA#32
  | 108 => 0x341C2500#32
  | 109 => 0xB418D9F0#32
  | 110 => 0x3415B495#32
  | 111 => 0xB412B2ED#32
  | 112 => 0x340FD31A#32
  | 113 => 0xB40D1360#32
  | 114 => 0x340A721F#32
  | 115 => 0xB407EDD1#32
  | 116 => 0x3405850C#32
  | 117 => 0xB403367C#32
  | 118 => 0x340100E3#32
  | 119 => 0xB3FDC62E#32
  | 120 => 0x33F9B800#32
  | 121 => 0xB3F5D532#32
  | 122 => 0x33F21BD6#32
  | 123 => 0xB3EE8A1F#32
  | 124 => 0x33EB1E5A#32
  | 125 => 0xB3E7D6EF#32
  | 126 => 0x33E4B25D#32
  | 127 => 0xB3E1AF3D#32
  | _ => 0#32

noncomputable abbrev lit0t0_79 (i : Nat) : BitVec 32 := match i % 128 with
  | 0 => 0x33DECC38#32
  | 1 => 0xB3DC0810#32
  | 2 => 0x33D96196#32
  | 3 => 0xB3D6D7AE#32
  | 4 => 0x33D4694B#32
  | 5 => 0xB3D21572#32
  | 6 => 0x33CFDB34#32
  | 7 => 0xB3CDB9B1#32
  | 8 => 0x33CBB015#32
  | 9 => 0xB3C9BD97#32
  | 10 => 0x33C7E17D#32
  | 11 => 0xB3C61B15#32
  | 12 => 0x33C469B8#32
  | 13 => 0xB3C2CCC7#32
  | 14 => 0x33C143B0#32
  | 15 => 0xB3BFCDE6#32
  | 16 => 0x33BE6AE7#32
  | 17 => 0xB3BD1A36#32
  | 18 => 0x33BBDB61#32
  | 19 => 0xB3BAADFB#32
  | 20 => 0x33B9919E#32
  | 21 => 0xB3B885EC#32
  | 22 => 0x33B78A8A#32
  | 23 => 0xB3B69F28#32
  | 24 => 0x33B5C377#32
  | 25 => 0xB3B4F732#32
  | 26 => 0x33B43A15#32
  | 27 => 0xB3B38BE5#32
  | 28 => 0x33B2EC6A#32
  | 29 => 0xB3B25B72#32
  | 30 => 0x33B1D8CF#32
  | 31 => 0xB3B16459#32
  | 32 => 0x33B0FDEA#32
  | 33 => 0xB3B0A563#32
  | 34 => 0x33B05AA9#32
  | 35 => 0xB3B01DA5#32
  | 36 => 0x33AFEE43#32
  | 37 => 0xB3AFCC75#32
  | 38 => 0x33AFB831#32
  | 39 => 0xB3AFB170#32
  | 40 => 0x33AFB831#32
  | 41 => 0xB3AFCC75#32
  | 42 => 0x33AFEE43#32
  | 43 => 0xB3B01DA5#32
  | 44 => 0x33B05AA9#32
  | 45 => 0xB3B0A563#32
  | 46 => 0x33B0FDEA#32
  | 47 => 0xB3B16459#32
  | 48 => 0x33B1D8CF#32
  | 49 => 0xB3B25B72#32
  | 50 => 0x33B2EC6A#32
  | 51 => 0xB3B38BE5#32
  | 52 => 0x33B43A15#32
  | 53 => 0xB3B4F732#32
  | 54 => 0x33B5C377#32
  | 55 => 0xB3B69F28#32
  | 56 => 0x33B78A8A#32
  | 57 => 0xB3B885EC#32
  | 58 => 0x33B9919E#32
  | 59 => 0xB3BAADFB#32
  | 60 => 0x33BBDB61#32
  | 61 => 0xB3BD1A36#32
  | 62 => 0x33BE6AE7#32
  | 63 => 0xB3BFCDE6#32
  | 64 => 0x33C143B0#32
  | 65 => 0xB3C2CCC7#32
  | 66 => 0x33C469B8#32
  | 67 => 0xB3C61B15#32
  | 68 => 0x33C7E17D#32
  | 69 => 0xB3C9BD97#32
  | 70 => 0x33CBB015#32
  | 71 => 0xB3CDB9B1#32
  | 72 => 0x33CFDB34#32
  | 73 => 0xB3D21572#32
  | 74 => 0x33D4694B#32
  | 75 => 0xB3D6D7AE#32
  | 76 => 0x33D96196#32
  | 77 => 0xB3DC0810#32
  | 78 => 0x33DECC38#32
  | 79 => 0xB3E1AF3D#32
  | 80 => 0x33E4B25D#32
  | 81 => 0xB3E7D6EF#32
  | 82 => 0x33EB1E5A#32
  | 83 => 0xB3EE8A1F#32
  | 84 => 0x33F21BD6#32
  | 85 => 0xB3F5D532#32
  | 86 => 0x33F9B800#32
  | 87 => 0xB3FDC62E#32
  | 88 => 0x340100E3#32
  | 89 => 0xB403367C#32
  | 90 => 0x3405850C#32
  | 91 => 0xB407EDD1#32
  | 92 => 0x340A721F#32
  | 93 => 0xB40D1360#32
  | 94 => 0x340FD31A#32
  | 95 => 0xB412B2ED#32
  | 96 => 0x3415B495#32
  | 97 => 0xB418D9F0#32
  | 98 => 0x341C2500#32
  | 99 => 0xB41F97EA#32
  | 100 => 0x342334FF#32
  | 101 => 0xB426FEBD#32
  | 102 => 0x342AF7D2#32
  | 103 => 0xB42F2322#32
  | 104 => 0x343383CC#32
  | 105 => 0xB4381D32#32
  | 106 => 0x343CF2FA#32
  | 107 => 0xB4420919#32
  | 108 => 0x344763DA#32
  | 109 => 0xB44D07E6#32
  | 110 => 0x3452FA51#32
  | 111 => 0xB45940A1#32
  | 112 => 0x345FE0DA#32
  | 113 => 0xB466E193#32
  | 114 => 0x346E49FF#32
  | 115 => 0xB4762200#32
  | 116 => 0x347E723F#32
  | 117 => 0xB483A221#32
  | 118 => 0x34885142#32
  | 119 => 0xB48D4C4D#32
  | 120 => 0x349299A5#32
  | 121 => 0xB4984061#32
  | 122 => 0x349E485F#32
  | 123 => 0xB4A4BA5F#32
  | 124 => 0x34ABA023#32
  | 125 => 0xB4B30492#32
  | 126 => 0x34BAF3E5#32
  | 127 => 0xB4C37BD6#32
  | _ => 0#32

noncomputable abbrev lit0t0_80 (i : Nat) : BitVec 32 := match i % 128 with
  | 0 => 0xB4C37BD6#32
  | 1 => 0x34CCABDA#32
  | 2 => 0xB4D69568#32
  | 3 => 0x34E14C49#32
  | 4 => 0xB4ECE6F7#32
  | 5 => 0x34F97F13#32
  | 6 => 0xB50398F7#32
  | 7 => 0x350B1097#32
  | 8 => 0xB51339CD#32
  | 9 => 0x351C2B08#32
  | 10 => 0xB525FE56#32
  | 11 => 0x3530D21D#32
  | 12 => 0xB53CCA00#32
  | 13 => 0x354A0FF9#32
  | 14 => 0xB558D5BB#32
  | 15 => 0x35695670#32
  | 16 => 0xB57BD8F1#32
  | 17 => 0x3588594C#32
  | 18 => 0xB5942572#32
  | 19 => 0x35A19018#32
  | 20 => 0xB5B0E6EF#32
  | 21 => 0x35C28A3B#32
  | 22 => 0xB5D6F23A#32
  | 23 => 0x35EEB658#32
  | 24 => 0xB6054B76#32
  | 25 => 0x3615C529#32
  | 26 => 0xB6296767#32
  | 27 => 0x3641014B#32
  | 28 => 0xB65DA20C#32
  | 29 => 0x368056F2#32
  | 30 => 0xB695FBC4#32
  | 31 => 0x36B0ED61#32
  | 32 => 0xB6D29E9B#32
  | 33 => 0x36FFBDB2#32
  | 34 => 0xB692EE32#32
  | 35 => 0x391EBB1A#32
  | 36 => 0x3B12D0DF#32
  | 37 => 0x3CA0086D#32
  | 38 => 0x3DBAD58B#32
  | 39 => 0x3E6BB748#32
  | 40 => 0x3EA069FE#32
  | 41 => 0x3E6BB748#32
  | 42 => 0x3DBAD58B#32
  | 43 => 0x3CA0086D#32
  | 44 => 0x3B12D0DF#32
  | 45 => 0x391EBB1A#32
  | 46 => 0xB692EE32#32
  | 47 => 0x36FFBDB2#32
  | 48 => 0xB6D29E9B#32
  | 49 => 0x36B0ED61#32
  | 50 => 0xB695FBC4#32
  | 51 => 0x368056F2#32
  | 52 => 0xB65DA20C#32
  | 53 => 0x3641014B#32
  | 54 => 0xB6296767#32
  | 55 => 0x3615C529#32
  | 56 => 0xB6054B76#32
  | 57 => 0x35EEB658#32
  | 58 => 0xB5D6F23A#32
  | 59 => 0x35C28A3B#32
  | 60 => 0xB5B0E6EF#32
  | 61 => 0x35A19018#32
  | 62 => 0xB5942572#32
  | 63 => 0x3588594C#32
  | 64 => 0xB57BD8F1#32
  | 65 => 0x35695670#32
  | 66 => 0xB558D5BB#32
  | 67 => 0x354A0FF9#32
  | 68 => 0xB53CCA00#32
  | 69 => 0x3530D21D#32
  | 70 => 0xB525FE56#32
  | 71 => 0x351C2B08#32
  | 72 => 0xB51339CD#32
  | 73 => 0x350B1097#32
  | 74 => 0xB50398F7#32
  | 75 => 0x34F97F13#32
  | 76 => 0xB4ECE6F7#32
  | 77 => 0x34E14C49#32
  | 78 => 0xB4D69568#32
  | 79 => 0x34CCABDA#32
  | 80 => 0xB4C37BD6#32
  | 81 => 0x34BAF3E5#32
  | 82 => 0xB4B30492#32
  | 83 => 0x34ABA023#32
  | 84 => 0xB4A4BA5F#32
  | 85 => 0x349E485F#32
  | 86 => 0xB4984061#32
  | 87 => 0x349299A5#32
  | 88 => 0xB48D4C4D#32
  | 89 => 0x34885142#32
  | 90 => 0xB483A221#32
  | 91 => 0x347E723F#32
  | 92 => 0xB4762200#32
  | 93 => 0x346E49FF#32
  | 94 => 0xB466E193#32
  | 95 => 0x345FE0DA#32
  | 96 => 0xB45940A1#32
  | 97 => 0x3452FA51#32
  | 98 => 0xB44D07E6#32
  | 99 => 0x344763DA#32
  | 100 => 0xB4420919#32
  | 101 => 0x343CF2FA#32
  | 102 => 0xB4381D32#32
  | 103 => 0x343383CC#32
  | 104 => 0xB42F2322#32
  | 105 => 0x342AF7D2#32
  | 106 => 0xB426FEBD#32
  | 107 => 0x342334FF#32
  | 108 => 0xB41F97EA#32
  | 109 => 0x341C2500#32
  | 110 => 0xB418D9F0#32
  | 111 => 0x3415B495#32
  | 112 => 0xB412B2ED#32
  | 113 => 0x340FD31A#32
  | 114 => 0xB40D1360#32
  | 115 => 0x340A721F#32
  | 116 => 0xB407EDD1#32
  | 117 => 0x3405850C#32
  | 118 => 0xB403367C#32
  | 119 => 0x340100E3#32
  | 120 => 0xB3FDC62E#32
  | 121 => 0x33F9B800#32
  | 122 => 0xB3F5D532#32
  | 123 => 0x33F21BD6#32
  | 124 => 0xB3EE8A1F#32
  | 125 => 0x33EB1E5A#32
  | 126 => 0xB3E7D6EF#32
  | 127 => 0x33E4B25D#32
  | _ => 0#32

noncomputable abbrev lit0t0_81 (i : Nat) : BitVec 32 := match i % 128 with
  | 0 => 0xB3E1AF3D#32
  | 1 => 0x33DECC38#32
  | 2 => 0xB3DC0810#32
  | 3 => 0x33D96196#32
  | 4 => 0xB3D6D7AE#32
  | 5 => 0x33D4694B#32
  | 6 => 0xB3D21572#32
  | 7 => 0x33CFDB34#32
  | 8 => 0xB3CDB9B1#32
  | 9 => 0x33CBB015#32
  | 10 => 0xB3C9BD97#32
  | 11 => 0x33C7E17D#32
  | 12 => 0xB3C61B15#32
  | 13 => 0x33C469B8#32
  | 14 => 0xB3C2CCC7#32
  | 15 => 0x33C143B0#32
  | 16 => 0xB3BFCDE6#32
  | 17 => 0x33BE6AE7#32
  | 18 => 0xB3BD1A36#32
  | 19 => 0x33BBDB61#32
  | 20 => 0xB3BAADFB#32
  | 21 => 0x33B9919E#32
  | 22 => 0xB3B885EC#32
  | 23 => 0x33B78A8A#32
  | 24 => 0xB3B69F28#32
  | 25 => 0x33B5C377#32
  | 26 => 0xB3B4F732#32
  | 27 => 0x33B43A15#32
  | 28 => 0xB3B38BE5#32
  | 29 => 0x33B2EC6A#32
  | 30 => 0xB3B25B72#32
  | 31 => 0x33B1D8CF#32
  | 32 => 0xB3B16459#32
  | 33 => 0x33B0FDEA#32
  | 34 => 0xB3B0A563#32
  | 35 => 0x33B05AA9#32
  | 36 => 0xB3B01DA5#32
  | 37 => 0x33AFEE43#32
  | 38 => 0xB3AFCC75#32
  | 39 => 0x33AFB831#32
  | 40 => 0xB3AFB170#32
  | 41 => 0x33AFB831#32
  | 42 => 0xB3AFCC75#32
  | 43 => 0x33AFEE43#32
  | 44 => 0xB3B01DA5#32
  | 45 => 0x33B05AA9#32
  | 46 => 0xB3B0A563#32
  | 47 => 0x33B0FDEA#32
  | 48 => 0xB3B16459#32
  | 49 => 0x33B1D8CF#32
  | 50 => 0xB3B25B72#32
  | 51 => 0x33B2EC6A#32
  | 52 => 0xB3B38BE5#32
  | 53 => 0x33B43A15#32
  | 54 => 0xB3B4F732#32
  | 55 => 0x33B5C377#32
  | 56 => 0xB3B69F28#32
  | 57 => 0x33B78A8A#32
  | 58 => 0xB3B885EC#32
  | 59 => 0x33B9919E#32
  | 60 => 0xB3BAADFB#32
  | 61 => 0x33BBDB61#32
  | 62 => 0xB3BD1A36#32
  | 63 => 0x33BE6AE7#32
  | 64 => 0xB3BFCDE6#32
  | 65 => 0x33C143B0#32
  | 66 => 0xB3C2CCC7#32
  | 67 => 0x33C469B8#32
  | 68 => 0xB3C61B15#32
  | 69 => 0x33C7E17D#32
  | 70 => 0xB3C9BD97#32
  | 71 => 0x33CBB015#32
  | 72 => 0xB3CDB9B1#32
  | 73 => 0x33CFDB34#32
  | 74 => 0xB3D21572#32
  | 75 => 0x33D4694B#32
  | 76 => 0xB3D6D7AE#32
  | 77 => 0x33D96196#32
  | 78 => 0xB3DC0810#32
  | 79 => 0x33DECC38#32
  | 80 => 0xB3E1AF3D#32
  | 81 => 0x33E4B25D#32
  | 82 => 0xB3E7D6EF#32
  | 83 => 0x33EB1E5A#32
  | 84 => 0xB3EE8A1F#32
  | 85 => 0x33F21BD6#32
  | 86 => 0xB3F5D532#32
  | 87 => 0x33F9B800#32
  | 88 => 0xB3FDC62E#32
  | 89 => 0x340100E3#32
  | 90 => 0xB403367C#32
  | 91 => 0x3405850C#32
  | 92 => 0xB407EDD1#32
  | 93 => 0x340A721F#32
  | 94 => 0xB40D1360#32
  | 95 => 0x340FD31A#32
  | 96 => 0xB412B2ED#32
  | 97 => 0x3415B495#32
  | 98 => 0xB418D9F0#32
  | 99 => 0x341C2500#32
  | 100 => 0xB41F97EA#32
  | 101 => 0x342334FF#32
  | 102 => 0xB426FEBD#32
  | 103 => 0x342AF7D2#32
  | 104 => 0xB42F2322#32
  | 105 => 0x343383CC#32
  | 106 => 0xB4381D32#32
  | 107 => 0x343CF2FA#32
  | 108 => 0xB4420919#32
  | 109 => 0x344763DA#32
  | 110 => 0xB44D07E6#32
  | 111 => 0x3452FA51#32
  | 112 => 0xB45940A1#32
  | 113 => 0x345FE0DA#32
  | 114 => 0xB466E193#32
  | 115 => 0x346E49FF#32
  | 116 => 0xB4762200#32
  | 117 => 0x347E723F#32
  | 118 => 0xB483A221#32
  | 119 => 0x34885143#32
  | 120 => 0xB48D4C4D#32
  | 121 => 0x349299A5#32
  | 122 => 0xB4984061#32
  | 123 => 0x349E485F#32
  | 124 => 0xB4A4BA5F#32
  | 125 => 0x34ABA023#32
  | 126 => 0xB4B30492#32
  | 127 => 0x34BAF3E5#32
  | _ => 0#32

noncomputable abbrev lit0t0_82 (i : Nat) : BitVec 32 := match i % 128 with
  | 0 => 0x34BAF3E5#32
  | 1 => 0xB4C37BD6#32
  | 2 => 0x34CCABDA#32
  | 3 => 0xB4D69568#32
  | 4 => 0x34E14C49#32
  | 5 => 0xB4ECE6F7#32
  | 6 => 0x34F97F13#32
  | 7 => 0xB50398F7#32
  | 8 => 0x350B1097#32
  | 9 => 0xB51339CD#32
  | 10 => 0x351C2B08#32
  | 11 => 0xB525FE56#32
  | 12 => 0x3530D21D#32
  | 13 => 0xB53CCA00#32
  | 14 => 0x354A0FF9#32
  | 15 => 0xB558D5BB#32
  | 16 => 0x35695670#32
  | 17 => 0xB57BD8F1#32
  | 18 => 0x3588594C#32
  | 19 => 0xB5942572#32
  | 20 => 0x35A19018#32
  | 21 => 0xB5B0E6EF#32
  | 22 => 0x35C28A3B#32
  | 23 => 0xB5D6F23A#32
  | 24 => 0x35EEB658#32
  | 25 => 0xB6054B76#32
  | 26 => 0x3615C529#32
  | 27 => 0xB6296767#32
  | 28 => 0x3641014B#32
  | 29 => 0xB65DA20C#32
  | 30 => 0x368056F2#32
  | 31 => 0xB695FBC4#32
  | 32 => 0x36B0ED61#32
  | 33 => 0xB6D29E9B#32
  | 34 => 0x36FFBDB2#32
  | 35 => 0xB692EE32#32
  | 36 => 0x391EBB1A#32
  | 37 => 0x3B12D0DF#32
  | 38 => 0x3CA0086D#32
  | 39 => 0x3DBAD58B#32
  | 40 => 0x3E6BB748#32
  | 41 => 0x3EA069FE#32
  | 42 => 0x3E6BB748#32
  | 43 => 0x3DBAD58B#32
  | 44 => 0x3CA0086D#32
  | 45 => 0x3B12D0DF#32
  | 46 => 0x391EBB1A#32
  | 47 => 0xB692EE32#32
  | 48 => 0x36FFBDB2#32
  | 49 => 0xB6D29E9B#32
  | 50 => 0x36B0ED61#32
  | 51 => 0xB695FBC4#32
  | 52 => 0x368056F2#32
  | 53 => 0xB65DA20C#32
  | 54 => 0x3641014B#32
  | 55 => 0xB6296767#32
  | 56 => 0x3615C529#32
  | 57 => 0xB6054B76#32
  | 58 => 0x35EEB658#32
  | 59 => 0xB5D6F23A#32
  | 60 => 0x35C28A3B#32
  | 61 => 0xB5B0E6EF#32
  | 62 => 0x35A19018#32
  | 63 => 0xB5942572#32
  | 64 => 0x3588594C#32
  | 65 => 0xB57BD8F1#32
  | 66 => 0x35695670#32
  | 67 => 0xB558D5BB#32
  | 68 => 0x354A0FF9#32
  | 69 => 0xB53CCA00#32
  | 70 => 0x3530D21D#32
  | 71 => 0xB525FE56#32
  | 72 => 0x351C2B08#32
  | 73 => 0xB51339CD#32
  | 74 => 0x350B1097#32
  | 75 => 0xB50398F7#32
  | 76 => 0x34F97F13#32
  | 77 => 0xB4ECE6F7#32
  | 78 => 0x34E14C49#32
  | 79 => 0xB4D69568#32
  | 80 => 0x34CCABDA#32
  | 81 => 0xB4C37BD6#32
  | 82 => 0x34BAF3E5#32
  | 83 => 0xB4B30492#32
  | 84 => 0x34ABA023#32
  | 85 => 0xB4A4BA5F#32
  | 86 => 0x349E485F#32
  | 87 => 0xB4984061#32
  | 88 => 0x349299A5#32
  | 89 => 0xB48D4C4D#32
  | 90 => 0x34885143#32
  | 91 => 0xB483A221#32
  | 92 => 0x347E723F#32
  | 93 => 0xB4762200#32
  | 94 => 0x346E49FF#32
  | 95 => 0xB466E193#32
  | 96 => 0x345FE0DA#32
  | 97 => 0xB45940A1#32
  | 98 => 0x3452FA51#32
  | 99 => 0xB44D07E6#32
  | 100 => 0x344763DA#32
  | 101 => 0xB4420919#32
  | 102 => 0x343CF2FA#32
  | 103 => 0xB4381D32#32
  | 104 => 0x343383CC#32
  | 105 => 0xB42F2322#32
  | 106 => 0x342AF7D2#32
  | 107 => 0xB426FEBD#32
  | 108 => 0x342334FF#32
  | 109 => 0xB41F97EA#32
  | 110 => 0x341C2500#32
  | 111 => 0xB418D9F0#32
  | 112 => 0x3415B495#32
  | 113 => 0xB412B2ED#32
  | 114 => 0x340FD31A#32
  | 115 => 0xB40D1360#32
  | 116 => 0x340A721F#32
  | 117 => 0xB407EDD1#32
  | 118 => 0x3405850C#32
  | 119 => 0xB403367C#32
  | 120 => 0x340100E3#32
  | 121 => 0xB3FDC62E#32
  | 122 => 0x33F9B800#32
  | 123 => 0xB3F5D532#32
  | 124 => 0x33F21BD6#32
  | 125 => 0xB3EE8A1F#32
  | 126 => 0x33EB1E5A#32
  | 127 => 0xB3E7D6EF#32
  | _ => 0#32

noncomputable abbrev lit0t0_83 (i : Nat) : BitVec 32 := match i % 128 with
  | 0 => 0x33E4B25D#32
  | 1 => 0xB3E1AF3D#32
  | 2 => 0x33DECC38#32
  | 3 => 0xB3DC0810#32
  | 4 => 0x33D96196#32
  | 5 => 0xB3D6D7AE#32
  | 6 => 0x33D4694B#32
  | 7 => 0xB3D21572#32
  | 8 => 0x33CFDB34#32
  | 9 => 0xB3CDB9B1#32
  | 10 => 0x33CBB015#32
  | 11 => 0xB3C9BD97#32
  | 12 => 0x33C7E17D#32
  | 13 => 0xB3C61B15#32
  | 14 => 0x33C469B8#32
  | 15 => 0xB3C2CCC7#32
  | 16 => 0x33C143B0#32
  | 17 => 0xB3BFCDE6#32
  | 18 => 0x33BE6AE7#32
  | 19 => 0xB3BD1A36#32
  | 20 => 0x33BBDB61#32
  | 21 => 0xB3BAADFB#32
  | 22 => 0x33B9919E#32
  | 23 => 0xB3B885EC#32
  | 24 => 0x33B78A8A#32
  | 25 => 0xB3B69F28#32
  | 26 => 0x33B5C377#32
  | 27 => 0xB3B4F732#32
  | 28 => 0x33B43A15#32
  | 29 => 0xB3B38BE5#32
  | 30 => 0x33B2EC6A#32
  | 31 => 0xB3B25B72#32
  | 32 => 0x33B1D8CF#32
  | 33 => 0xB3B16459#32
  | 34 => 0x33B0FDEA#32
  | 35 => 0xB3B0A563#32
  | 36 => 0x33B05AA9#32
  | 37 => 0xB3B01DA5#32
  | 38 => 0x33AFEE43#32
  | 39 => 0xB3AFCC75#32
  | 40 => 0x33AFB831#32
  | 41 => 0xB3AFB170#32
  | 42 => 0x33AFB831#32
  | 43 => 0xB3AFCC75#32
  | 44 => 0x33AFEE43#32
  | 45 => 0xB3B01DA5#32
  | 46 => 0x33B05AA9#32
  | 47 => 0xB3B0A563#32
  | 48 => 0x33B0FDEA#32
  | 49 => 0xB3B16459#32
  | 50 => 0x33B1D8CF#32
  | 51 => 0xB3B25B72#32
  | 52 => 0x33B2EC6A#32
  | 53 => 0xB3B38BE5#32
  | 54 => 0x33B43A15#32
  | 55 => 0xB3B4F732#32
  | 56 => 0x33B5C377#32
  | 57 => 0xB3B69F28#32
  | 58 => 0x33B78A8A#32
  | 59 => 0xB3B885EC#32
  | 60 => 0x33B9919E#32
  | 61 => 0xB3BAADFB#32
  | 62 => 0x33BBDB61#32
  | 63 => 0xB3BD1A36#32
  | 64 => 0x33BE6AE7#32
  | 65 => 0xB3BFCDE6#32
  | 66 => 0x33C143B0#32
  | 67 => 0xB3C2CCC7#32
  | 68 => 0x33C469B8#32
  | 69 => 0xB3C61B15#32
  | 70 => 0x33C7E17D#32
  | 71 => 0xB3C9BD97#32
  | 72 => 0x33CBB015#32
  | 73 => 0xB3CDB9B1#32
  | 74 => 0x33CFDB34#32
  | 75 => 0xB3D21572#32
  | 76 => 0x33D4694B#32
  | 77 => 0xB3D6D7AE#32
  | 78 => 0x33D96196#32
  | 79 => 0xB3DC0810#32
  | 80 => 0x33DECC38#32
  | 81 => 0xB3E1AF3D#32
  | 82 => 0x33E4B25D#32
  | 83 => 0xB3E7D6EF#32
  | 84 => 0x33EB1E5A#32
  | 85 => 0xB3EE8A1F#32
  | 86 => 0x33F21BD6#32
  | 87 => 0xB3F5D532#32
  | 88 => 0x33F9B800#32
  | 89 => 0xB3FDC62E#32
  | 90 => 0x340100E3#32
  | 91 => 0xB403367C#32
  | 92 => 0x3405850C#32
  | 93 => 0xB407EDD1#32
  | 94 => 0x340A721F#32
  | 95 => 0xB40D1360#32
  | 96 => 0x340FD31A#32
  | 97 => 0xB412B2ED#32
  | 98 => 0x3415B495#32
  | 99 => 0xB418D9F0#32
  | 100 => 0x341C2500#32
  | 101 => 0xB41F97EA#32
  | 102 => 0x342334FF#32
  | 103 => 0xB426FEBD#32
  | 104 => 0x342AF7D2#32
  | 105 => 0xB42F2322#32
  | 106 => 0x343383CC#32
  | 107 => 0xB4381D32#32
  | 108 => 0x343CF2FA#32
  | 109 => 0xB4420919#32
  | 110 => 0x344763DA#32
  | 111 => 0xB44D07E6#32
  | 112 => 0x3452FA51#32
  | 113 => 0xB45940A1#32
  | 114 => 0x345FE0DA#32
  | 115 => 0xB466E193#32
  | 116 => 0x346E49FF#32
  | 117 => 0xB4762200#32
  | 118 => 0x347E723F#32
  | 119 => 0xB483A221#32
  | 120 => 0x34885143#32
  | 121 => 0xB48D4C4D#32
  | 122 => 0x349299A5#32
  | 123 => 0xB4984061#32
  | 124 => 0x349E485F#32
  | 125 => 0xB4A4BA5F#32
  | 126 => 0x34ABA023#32
  | 127 => 0xB4B30492#32
  | _ => 0#32

noncomputable abbrev lit0t0_84 (i : Nat) : BitVec 32 := match i % 128 with
  | 0 => 0xB4B30492#32
  | 1 => 0x34BAF3E5#32
  | 2 => 0xB4C37BD6#32
  | 3 => 0x34CCABDA#32
  | 4 => 0xB4D69568#32
  | 5 => 0x34E14C49#32
  | 6 => 0xB4ECE6F7#32
  | 7 => 0x34F97F13#32
  | 8 => 0xB50398F7#32
  | 9 => 0x350B1097#32
  | 10 => 0xB51339CD#32
  | 11 => 0x351C2B08#32
  | 12 => 0xB525FE56#32
  | 13 => 0x3530D21D#32
  | 14 => 0xB53CCA00#32
  | 15 => 0x354A0FF9#32
  | 16 => 0xB558D5BB#32
  | 17 => 0x35695670#32
  | 18 => 0xB57BD8F1#32
  | 19 => 0x3588594C#32
  | 20 => 0xB5942572#32
  | 21 => 0x35A19018#32
  | 22 => 0xB5B0E6EF#32
  | 23 => 0x35C28A3B#32
  | 24 => 0xB5D6F23A#32
  | 25 => 0x35EEB658#32
  | 26 => 0xB6054B76#32
  | 27 => 0x3615C529#32
  | 28 => 0xB6296767#32
  | 29 => 0x3641014B#32
  | 30 => 0xB65DA20C#32
  | 31 => 0x368056F2#32
  | 32 => 0xB695FBC4#32
  | 33 => 0x36B0ED61#32
  | 34 => 0xB6D29E9B#32
  | 35 => 0x36FFBDB2#32
  | 36 => 0xB692EE32#32
  | 37 => 0x391EBB1A#32
  | 38 => 0x3B12D0DF#32
  | 39 => 0x3CA0086D#32
  | 40 => 0x3DBAD58B#32
  | 41 => 0x3E6BB748#32
  | 42 => 0x3EA069FE#32
  | 43 => 0x3E6BB748#32
  | 44 => 0x3DBAD58B#32
  | 45 => 0x3CA0086D#32
  | 46 => 0x3B12D0DF#32
  | 47 => 0x391EBB1A#32
  | 48 => 0xB692EE32#32
  | 49 => 0x36FFBDB2#32
  | 50 => 0xB6D29E9B#32
  | 51 => 0x36B0ED61#32
  | 52 => 0xB695FBC4#32
  | 53 => 0x368056F2#32
  | 54 => 0xB65DA20C#32
  | 55 => 0x3641014B#32
  | 56 => 0xB6296767#32
  | 57 => 0x3615C529#32
  | 58 => 0xB6054B76#32
  | 59 => 0x35EEB658#32
  | 60 => 0xB5D6F23A#32
  | 61 => 0x35C28A3B#32
  | 62 => 0xB5B0E6EF#32
  | 63 => 0x35A19018#32
  | 64 => 0xB5942572#32
  | 65 => 0x3588594C#32
  | 66 => 0xB57BD8F1#32
  | 67 => 0x35695670#32
  | 68 => 0xB558D5BB#32
  | 69 => 0x354A0FF9#32
  | 70 => 0xB53CCA00#32
  | 71 => 0x3530D21D#32
  | 72 => 0xB525FE56#32
  | 73 => 0x351C2B08#32
  | 74 => 0xB51339CD#32
  | 75 => 0x350B1097#32
  | 76 => 0xB50398F7#32
  | 77 => 0x34F97F13#32
  | 78 => 0xB4ECE6F7#32
  | 79 => 0x34E14C49#32
  | 80 => 0xB4D69568#32
  | 81 => 0x34CCABDA#32
  | 82 => 0xB4C37BD6#32
  | 83 => 0x34BAF3E5#32
  | 84 => 0xB4B30492#32
  | 85 => 0x34ABA023#32
  | 86 => 0xB4A4BA5F#32
  | 87 => 0x349E485F#32
  | 88 => 0xB4984061#32
  | 89 => 0x349299A5#32
  | 90 => 0xB48D4C4D#32
  | 91 => 0x34885143#32
  | 92 => 0xB483A221#32
  | 93 => 0x347E723F#32
  | 94 => 0xB4762200#32
  | 95 => 0x346E49FF#32
  | 96 => 0xB466E193#32
  | 97 => 0x345FE0DA#32
  | 98 => 0xB45940A1#32
  | 99 => 0x3452FA51#32
  | 100 => 0xB44D07E6#32
  | 101 => 0x344763DA#32
  | 102 => 0xB4420919#32
  | 103 => 0x343CF2FA#32
  | 104 => 0xB4381D32#32
  | 105 => 0x343383CC#32
  | 106 => 0xB42F2322#32
  | 107 => 0x342AF7D2#32
  | 108 => 0xB426FEBD#32
  | 109 => 0x342334FF#32
  | 110 => 0xB41F97EA#32
  | 111 => 0x341C2500#32
  | 112 => 0xB418D9F0#32
  | 113 => 0x3415B495#32
  | 114 => 0xB412B2ED#32
  | 115 => 0x340FD31A#32
  | 116 => 0xB40D1360#32
  | 117 => 0x340A721F#32
  | 118 => 0xB407EDD1#32
  | 119 => 0x3405850C#32
  | 120 => 0xB403367C#32
  | 121 => 0x340100E3#32
  | 122 => 0xB3FDC62E#32
  | 123 => 0x33F9B800#32
  | 124 => 0xB3F5D532#32
  | 125 => 0x33F21BD6#32
  | 126 => 0xB3EE8A1F#32
  | 127 => 0x33EB1E5A#32
  | _ => 0#32

noncomputable abbrev lit0t0_85 (i : Nat) : BitVec 32 := match i % 128 with
  | 0 => 0xB3E7D6EF#32
  | 1 => 0x33E4B25D#32
  | 2 => 0xB3E1AF3D#32
  | 3 => 0x33DECC38#32
  | 4 => 0xB3DC0810#32
  | 5 => 0x33D96196#32
  | 6 => 0xB3D6D7AE#32
  | 7 => 0x33D4694B#32
  | 8 => 0xB3D21572#32
  | 9 => 0x33CFDB34#32
  | 10 => 0xB3CDB9B1#32
  | 11 => 0x33CBB015#32
  | 12 => 0xB3C9BD97#32
  | 13 => 0x33C7E17D#32
  | 14 => 0xB3C61B15#32
  | 15 => 0x33C469B8#32
  | 16 => 0xB3C2CCC7#32
  | 17 => 0x33C143B0#32
  | 18 => 0xB3BFCDE6#32
  | 19 => 0x33BE6AE7#32
  | 20 => 0xB3BD1A36#32
  | 21 => 0x33BBDB61#32
  | 22 => 0xB3BAADFB#32
  | 23 => 0x33B9919E#32
  | 24 => 0xB3B885EC#32
  | 25 => 0x33B78A8A#32
  | 26 => 0xB3B69F28#32
  | 27 => 0x33B5C377#32
  | 28 => 0xB3B4F732#32
  | 29 => 0x33B43A15#32
  | 30 => 0xB3B38BE5#32
  | 31 => 0x33B2EC6A#32
  | 32 => 0xB3B25B72#32
  | 33 => 0x33B1D8CF#32
  | 34 => 0xB3B16459#32
  | 35 => 0x33B0FDEA#32
  | 36 => 0xB3B0A563#32
  | 37 => 0x33B05AA9#32
  | 38 => 0xB3B01DA5#32
  | 39 => 0x33AFEE43#32
  | 40 => 0xB3AFCC75#32
  | 41 => 0x33AFB831#32
  | 42 => 0xB3AFB170#32
  | 43 => 0x33AFB831#32
  | 44 => 0xB3AFCC75#32
  | 45 => 0x33AFEE43#32
  | 46 => 0xB3B01DA5#32
  | 47 => 0x33B05AA9#32
  | 48 => 0xB3B0A563#32
  | 49 => 0x33B0FDEA#32
  | 50 => 0xB3B16459#32
  | 51 => 0x33B1D8CF#32
  | 52 => 0xB3B25B72#32
  | 53 => 0x33B2EC6A#32
  | 54 => 0xB3B38BE5#32
  | 55 => 0x33B43A15#32
  | 56 => 0xB3B4F732#32
  | 57 => 0x33B5C377#32
  | 58 => 0xB3B69F28#32
  | 59 => 0x33B78A8A#32
  | 60 => 0xB3B885EC#32
  | 61 => 0x33B9919E#32
  | 62 => 0xB3BAADFB#32
  | 63 => 0x33BBDB61#32
  | 64 => 0xB3BD1A36#32
  | 65 => 0x33BE6AE7#32
  | 66 => 0xB3BFCDE6#32
  | 67 => 0x33C143B0#32
  | 68 => 0xB3C2CCC7#32
  | 69 => 0x33C469B8#32
  | 70 => 0xB3C61B15#32
  | 71 => 0x33C7E17D#32
  | 72 => 0xB3C9BD97#32
  | 73 => 0x33CBB015#32
  | 74 => 0xB3CDB9B1#32
  | 75 => 0x33CFDB34#32
  | 76 => 0xB3D21572#32
  | 77 => 0x33D4694B#32
  | 78 => 0xB3D6D7AE#32
  | 79 => 0x33D96196#32
  | 80 => 0xB3DC0810#32
  | 81 => 0x33DECC38#32
  | 82 => 0xB3E1AF3D#32
  | 83 => 0x33E4B25D#32
  | 84 => 0xB3E7D6EF#32
  | 85 => 0x33EB1E5A#32
  | 86 => 0xB3EE8A1F#32
  | 87 => 0x33F21BD6#32
  | 88 => 0xB3F5D532#32
  | 89 => 0x33F9B800#32
  | 90 => 0xB3FDC62E#32
  | 91 => 0x340100E3#32
  | 92 => 0xB403367C#32
  | 93 => 0x3405850C#32
  | 94 => 0xB407EDD1#32
  | 95 => 0x340A721F#32
  | 96 => 0xB40D1360#32
  | 97 => 0x340FD31A#32
  | 98 => 0xB412B2ED#32
  | 99 => 0x3415B495#32
  | 100 => 0xB418D9F0#32
  | 101 => 0x341C2500#32
  | 102 => 0xB41F97EA#32
  | 103 => 0x342334FF#32
  | 104 => 0xB426FEBD#32
  | 105 => 0x342AF7D2#32
  | 106 => 0xB42F2322#32
  | 107 => 0x343383CC#32
  | 108 => 0xB4381D32#32
  | 109 => 0x343CF2FA#32
  | 110 => 0xB4420919#32
  | 111 => 0x344763DA#32
  | 112 => 0xB44D07E6#32
  | 113 => 0x3452FA51#32
  | 114 => 0xB45940A1#32
  | 115 => 0x345FE0DA#32
  | 116 => 0xB466E193#32
  | 117 => 0x346E49FF#32
  | 118 => 0xB4762200#32
  | 119 => 0x347E723F#32
  | 120 => 0xB483A221#32
  | 121 => 0x34885143#32
  | 122 => 0xB48D4C4D#32
  | 123 => 0x349299A5#32
  | 124 => 0xB4984061#32
  | 125 => 0x349E485F#32
  | 126 => 0xB4A4BA5F#32
  | 127 => 0x34ABA023#32
  | _ => 0#32

noncomputable abbrev lit0t0_86 (i : Nat) : BitVec 32 := match i % 128 with
  | 0 => 0x34ABA023#32
  | 1 => 0xB4B30492#32
  | 2 => 0x34BAF3E5#32
  | 3 => 0xB4C37BD6#32
  | 4 => 0x34CCABDA#32
  | 5 => 0xB4D69568#32
  | 6 => 0x34E14C49#32
  | 7 => 0xB4ECE6F7#32
  | 8 => 0x34F97F13#32
  | 9 => 0xB50398F7#32
  | 10 => 0x350B1097#32
  | 11 => 0xB51339CD#32
  | 12 => 0x351C2B08#32
  | 13 => 0xB525FE56#32
  | 14 => 0x3530D21D#32
  | 15 => 0xB53CCA00#32
  | 16 => 0x354A0FF9#32
  | 17 => 0xB558D5BB#32
  | 18 => 0x35695670#32
  | 19 => 0xB57BD8F1#32
  | 20 => 0x3588594C#32
  | 21 => 0xB5942572#32
  | 22 => 0x35A19018#32
  | 23 => 0xB5B0E6EF#32
  | 24 => 0x35C28A3B#32
  | 25 => 0xB5D6F23A#32
  | 26 => 0x35EEB658#32
  | 27 => 0xB6054B76#32
  | 28 => 0x3615C529#32
  | 29 => 0xB6296767#32
  | 30 => 0x3641014B#32
  | 31 => 0xB65DA20C#32
  | 32 => 0x368056F2#32
  | 33 => 0xB695FBC4#32
  | 34 => 0x36B0ED61#32
  | 35 => 0xB6D29E9B#32
  | 36 => 0x36FFBDB2#32
  | 37 => 0xB692EE32#32
  | 38 => 0x391EBB1A#32
  | 39 => 0x3B12D0DF#32
  | 40 => 0x3CA0086D#32
  | 41 => 0x3DBAD58B#32
  | 42 => 0x3E6BB748#32
  | 43 => 0x3EA069FE#32
  | 44 => 0x3E6BB748#32
  | 45 => 0x3DBAD58B#32
  | 46 => 0x3CA0086D#32
  | 47 => 0x3B12D0DF#32
  | 48 => 0x391EBB1A#32
  | 49 => 0xB692EE32#32
  | 50 => 0x36FFBDB2#32
  | 51 => 0xB6D29E9B#32
  | 52 => 0x36B0ED61#32
  | 53 => 0xB695FBC4#32
  | 54 => 0x368056F2#32
  | 55 => 0xB65DA20C#32
  | 56 => 0x3641014B#32
  | 57 => 0xB6296767#32
  | 58 => 0x3615C529#32
  | 59 => 0xB6054B76#32
  | 60 => 0x35EEB658#32
  | 61 => 0xB5D6F23A#32
  | 62 => 0x35C28A3B#32
  | 63 => 0xB5B0E6EF#32
  | 64 => 0x35A19018#32
  | 65 => 0xB5942572#32
  | 66 => 0x3588594C#32
  | 67 => 0xB57BD8F1#32
  | 68 => 0x35695670#32
  | 69 => 0xB558D5BB#32
  | 70 => 0x354A0FF9#32
  | 71 => 0xB53CCA00#32
  | 72 => 0x3530D21D#32
  | 73 => 0xB525FE56#32
  | 74 => 0x351C2B08#32
  | 75 => 0xB51339CD#32
  | 76 => 0x350B1097#32
  | 77 => 0xB50398F7#32
  | 78 => 0x34F97F13#32
  | 79 => 0xB4ECE6F7#32
  | 80 => 0x34E14C49#32
  | 81 => 0xB4D69568#32
  | 82 => 0x34CCABDA#32
  | 83 => 0xB4C37BD6#32
  | 84 => 0x34BAF3E5#32
  | 85 => 0xB4B30492#32
  | 86 => 0x34ABA023#32
  | 87 => 0xB4A4BA5F#32
  | 88 => 0x349E485F#32
  | 89 => 0xB4984061#32
  | 90 => 0x349299A5#32
  | 91 => 0xB48D4C4D#32
  | 92 => 0x34885143#32
  | 93 => 0xB483A221#32
  | 94 => 0x347E723F#32
  | 95 => 0xB4762200#32
  | 96 => 0x346E49FF#32
  | 97 => 0xB466E193#32
  | 98 => 0x345FE0DA#32
  | 99 => 0xB45940A1#32
  | 100 => 0x3452FA51#32
  | 101 => 0xB44D07E6#32
  | 102 => 0x344763DA#32
  | 103 => 0xB4420919#32
  | 104 => 0x343CF2FA#32
  | 105 => 0xB4381D32#32
  | 106 => 0x343383CC#32
  | 107 => 0xB42F2322#32
  | 108 => 0x342AF7D2#32
  | 109 => 0xB426FEBD#32
  | 110 => 0x342334FF#32
  | 111 => 0xB41F97EA#32
  | 112 => 0x341C2500#32
  | 113 => 0xB418D9F0#32
  | 114 => 0x3415B495#32
  | 115 => 0xB412B2ED#32
  | 116 => 0x340FD31A#32
  | 117 => 0xB40D1360#32
  | 118 => 0x340A721F#32
  | 119 => 0xB407EDD1#32
  | 120 => 0x3405850C#32
  | 121 => 0xB403367C#32
  | 122 => 0x340100E3#32
  | 123 => 0xB3FDC62E#32
  | 124 => 0x33F9B800#32
  | 125 => 0xB3F5D532#32
  | 126 => 0x33F21BD6#32
  | 127 => 0xB3EE8A1F#32
  | _ => 0#32

noncomputable abbrev lit0t0_87 (i : Nat) : BitVec 32 := match i % 128 with
  | 0 => 0x33EB1E5A#32
  | 1 => 0xB3E7D6EF#32
  | 2 => 0x33E4B25D#32
  | 3 => 0xB3E1AF3D#32
  | 4 => 0x33DECC38#32
  | 5 => 0xB3DC0810#32
  | 6 => 0x33D96196#32
  | 7 => 0xB3D6D7AE#32
  | 8 => 0x33D4694B#32
  | 9 => 0xB3D21572#32
  | 10 => 0x33CFDB34#32
  | 11 => 0xB3CDB9B1#32
  | 12 => 0x33CBB015#32
  | 13 => 0xB3C9BD97#32
  | 14 => 0x33C7E17D#32
  | 15 => 0xB3C61B15#32
  | 16 => 0x33C469B8#32
  | 17 => 0xB3C2CCC7#32
  | 18 => 0x33C143B0#32
  | 19 => 0xB3BFCDE6#32
  | 20 => 0x33BE6AE7#32
  | 21 => 0xB3BD1A36#32
  | 22 => 0x33BBDB61#32
  | 23 => 0xB3BAADFB#32
  | 24 => 0x33B9919E#32
  | 25 => 0xB3B885EC#32
  | 26 => 0x33B78A8A#32
  | 27 => 0xB3B69F28#32
  | 28 => 0x33B5C377#32
  | 29 => 0xB3B4F732#32
  | 30 => 0x33B43A15#32
  | 31 => 0xB3B38BE5#32
  | 32 => 0x33B2EC6A#32
  | 33 => 0xB3B25B72#32
  | 34 => 0x33B1D8CF#32
  | 35 => 0xB3B16459#32
  | 36 => 0x33B0FDEA#32
  | 37 => 0xB3B0A563#32
  | 38 => 0x33B05AA9#32
  | 39 => 0xB3B01DA5#32
  | 40 => 0x33AFEE43#32
  | 41 => 0xB3AFCC75#32
  | 42 => 0x33AFB831#32
  | 43 => 0xB3AFB170#32
  | 44 => 0x33AFB831#32
  | 45 => 0xB3AFCC75#32
  | 46 => 0x33AFEE43#32
  | 47 => 0xB3B01DA5#32
  | 48 => 0x33B05AA9#32
  | 49 => 0xB3B0A563#32
  | 50 => 0x33B0FDEA#32
  | 51 => 0xB3B16459#32
  | 52 => 0x33B1D8CF#32
  | 53 => 0xB3B25B72#32
  | 54 => 0x33B2EC6A#32
  | 55 => 0xB3B38BE5#32
  | 56 => 0x33B43A15#32
  | 57 => 0xB3B4F732#32
  | 58 => 0x33B5C377#32
  | 59 => 0xB3B69F28#32
  | 60 => 0x33B78A8A#32
  | 61 => 0xB3B885EC#32
  | 62 => 0x33B9919E#32
  | 63 => 0xB3BAADFB#32
  | 64 => 0x33BBDB61#32
  | 65 => 0xB3BD1A36#32
  | 66 => 0x33BE6AE7#32
  | 67 => 0xB3BFCDE6#32
  | 68 => 0x33C143B0#32
  | 69 => 0xB3C2CCC7#32
  | 70 => 0x33C469B8#32
  | 71 => 0xB3C61B15#32
  | 72 => 0x33C7E17D#32
  | 73 => 0xB3C9BD97#32
  | 74 => 0x33CBB015#32
  | 75 => 0xB3CDB9B1#32
  | 76 => 0x33CFDB34#32
  | 77 => 0xB3D21572#32
  | 78 => 0x33D4694B#32
  | 79 => 0xB3D6D7AE#32
  | 80 => 0x33D96196#32
  | 81 => 0xB3DC0810#32
  | 82 => 0x33DECC38#32
  | 83 => 0xB3E1AF3D#32
  | 84 => 0x33E4B25D#32
  | 85 => 0xB3E7D6EF#32
  | 86 => 0x33EB1E5A#32
  | 87 => 0xB3EE8A1F#32
  | 88 => 0x33F21BD6#32
  | 89 => 0xB3F5D532#32
  | 90 => 0x33F9B800#32
  | 91 => 0xB3FDC62E#32
  | 92 => 0x340100E3#32
  | 93 => 0xB403367C#32
  | 94 => 0x3405850C#32
  | 95 => 0xB407EDD1#32
  | 96 => 0x340A721F#32
  | 97 => 0xB40D1360#32
  | 98 => 0x340FD31A#32
  | 99 => 0xB412B2ED#32
  | 100 => 0x3415B495#32
  | 101 => 0xB418D9F0#32
  | 102 => 0x341C2500#32
  | 103 => 0xB41F97EA#32
  | 104 => 0x342334FF#32
  | 105 => 0xB426FEBD#32
  | 106 => 0x342AF7D2#32
  | 107 => 0xB42F2322#32
  | 108 => 0x343383CC#32
  | 109 => 0xB4381D32#32
  | 110 => 0x343CF2FA#32
  | 111 => 0xB4420919#32
  | 112 => 0x344763DA#32
  | 113 => 0xB44D07E6#32
  | 114 => 0x3452FA51#32
  | 115 => 0xB45940A1#32
  | 116 => 0x345FE0DA#32
  | 117 => 0xB466E193#32
  | 118 => 0x346E49FF#32
  | 119 => 0xB4762200#32
  | 120 => 0x347E723F#32
  | 121 => 0xB483A221#32
  | 122 => 0x34885143#32
  | 123 => 0xB48D4C4D#32
  | 124 => 0x349299A5#32
  | 125 => 0xB4984061#32
  | 126 => 0x349E485F#32
  | 127 => 0xB4A4BA5F#32
  | _ => 0#32

noncomputable abbrev lit0t0_88 (i : Nat) : BitVec 32 := match i % 128 with
  | 0 => 0xB4A4BA5F#32
  | 1 => 0x34ABA023#32
  | 2 => 0xB4B30492#32
  | 3 => 0x34BAF3E5#32
  | 4 => 0xB4C37BD6#32
  | 5 => 0x34CCABDA#32
  | 6 => 0xB4D69568#32
  | 7 => 0x34E14C49#32
  | 8 => 0xB4ECE6F7#32
  | 9 => 0x34F97F13#32
  | 10 => 0xB50398F7#32
  | 11 => 0x350B1097#32
  | 12 => 0xB51339CD#32
  | 13 => 0x351C2B08#32
  | 14 => 0xB525FE56#32
  | 15 => 0x3530D21D#32
  | 16 => 0xB53CCA00#32
  | 17 => 0x354A0FF9#32
  | 18 => 0xB558D5BB#32
  | 19 => 0x35695670#32
  | 20 => 0xB57BD8F1#32
  | 21 => 0x3588594C#32
  | 22 => 0xB5942572#32
  | 23 => 0x35A19018#32
  | 24 => 0xB5B0E6EF#32
  | 25 => 0x35C28A3B#32
  | 26 => 0xB5D6F23A#32
  | 27 => 0x35EEB658#32
  | 28 => 0xB6054B76#32
  | 29 => 0x3615C529#32
  | 30 => 0xB6296767#32
  | 31 => 0x3641014B#32
  | 32 => 0xB65DA20C#32
  | 33 => 0x368056F2#32
  | 34 => 0xB695FBC4#32
  | 35 => 0x36B0ED61#32
  | 36 => 0xB6D29E9B#32
  | 37 => 0x36FFBDB2#32
  | 38 => 0xB692EE32#32
  | 39 => 0x391EBB1A#32
  | 40 => 0x3B12D0DF#32
  | 41 => 0x3CA0086D#32
  | 42 => 0x3DBAD58B#32
  | 43 => 0x3E6BB748#32
  | 44 => 0x3EA069FE#32
  | 45 => 0x3E6BB748#32
  | 46 => 0x3DBAD58B#32
  | 47 => 0x3CA0086D#32
  | 48 => 0x3B12D0DF#32
  | 49 => 0x391EBB1A#32
  | 50 => 0xB692EE32#32
  | 51 => 0x36FFBDB2#32
  | 52 => 0xB6D29E9B#32
  | 53 => 0x36B0ED61#32
  | 54 => 0xB695FBC4#32
  | 55 => 0x368056F2#32
  | 56 => 0xB65DA20C#32
  | 57 => 0x3641014B#32
  | 58 => 0xB6296767#32
  | 59 => 0x3615C529#32
  | 60 => 0xB6054B76#32
  | 61 => 0x35EEB658#32
  | 62 => 0xB5D6F23A#32
  | 63 => 0x35C28A3B#32
  | 64 => 0xB5B0E6EF#32
  | 65 => 0x35A19018#32
  | 66 => 0xB5942572#32
  | 67 => 0x3588594C#32
  | 68 => 0xB57BD8F1#32
  | 69 => 0x35695670#32
  | 70 => 0xB558D5BB#32
  | 71 => 0x354A0FF9#32
  | 72 => 0xB53CCA00#32
  | 73 => 0x3530D21D#32
  | 74 => 0xB525FE56#32
  | 75 => 0x351C2B08#32
  | 76 => 0xB51339CD#32
  | 77 => 0x350B1097#32
  | 78 => 0xB50398F7#32
  | 79 => 0x34F97F13#32
  | 80 => 0xB4ECE6F7#32
  | 81 => 0x34E14C49#32
  | 82 => 0xB4D69568#32
  | 83 => 0x34CCABDA#32
  | 84 => 0xB4C37BD6#32
  | 85 => 0x34BAF3E5#32
  | 86 => 0xB4B30492#32
  | 87 => 0x34ABA023#32
  | 88 => 0xB4A4BA5F#32
  | 89 => 0x349E485F#32
  | 90 => 0xB4984061#32
  | 91 => 0x349299A5#32
  | 92 => 0xB48D4C4D#32
  | 93 => 0x34885142#32
  | 94 => 0xB483A221#32
  | 95 => 0x347E723F#32
  | 96 => 0xB4762200#32
  | 97 => 0x346E49FF#32
  | 98 => 0xB466E193#32
  | 99 => 0x345FE0DA#32
  | 100 => 0xB45940A1#32
  | 101 => 0x3452FA51#32
  | 102 => 0xB44D07E6#32
  | 103 => 0x344763DA#32
  | 104 => 0xB4420919#32
  | 105 => 0x343CF2FA#32
  | 106 => 0xB4381D32#32
  | 107 => 0x343383CC#32
  | 108 => 0xB42F2322#32
  | 109 => 0x342AF7D2#32
  | 110 => 0xB426FEBD#32
  | 111 => 0x342334FF#32
  | 112 => 0xB41F97EA#32
  | 113 => 0x341C2500#32
  | 114 => 0xB418D9F0#32
  | 115 => 0x3415B495#32
  | 116 => 0xB412B2ED#32
  | 117 => 0x340FD31A#32
  | 118 => 0xB40D1360#32
  | 119 => 0x340A721F#32
  | 120 => 0xB407EDD1#32
  | 121 => 0x3405850C#32
  | 122 => 0xB403367C#32
  | 123 => 0x340100E3#32
  | 124 => 0xB3FDC62E#32
  | 125 => 0x33F9B800#32
  | 126 => 0xB3F5D532#32
  | 127 => 0x33F21BD6#32
  | _ => 0#32

noncomputable abbrev lit0t0_89 (i : Nat) : BitVec 32 := match i % 128 with
  | 0 => 0xB3EE8A1F#32
  | 1 => 0x33EB1E5A#32
  | 2 => 0xB3E7D6EF#32
  | 3 => 0x33E4B25D#32
  | 4 => 0xB3E1AF3D#32
  | 5 => 0x33DECC38#32
  | 6 => 0xB3DC0810#32
  | 7 => 0x33D96196#32
  | 8 => 0xB3D6D7AE#32
  | 9 => 0x33D4694B#32
  | 10 => 0xB3D21572#32
  | 11 => 0x33CFDB34#32
  | 12 => 0xB3CDB9B1#32
  | 13 => 0x33CBB015#32
  | 14 => 0xB3C9BD97#32
  | 15 => 0x33C7E17D#32
  | 16 => 0xB3C61B15#32
  | 17 => 0x33C469B8#32
  | 18 => 0xB3C2CCC7#32
  | 19 => 0x33C143B0#32
  | 20 => 0xB3BFCDE6#32
  | 21 => 0x33BE6AE7#32
  | 22 => 0xB3BD1A36#32
  | 23 => 0x33BBDB61#32
  | 24 => 0xB3BAADFB#32
  | 25 => 0x33B9919E#32
  | 26 => 0xB3B885EC#32
  | 27 => 0x33B78A8A#32
  | 28 => 0xB3B69F28#32
  | 29 => 0x33B5C377#32
  | 30 => 0xB3B4F732#32
  | 31 => 0x33B43A15#32
  | 32 => 0xB3B38BE5#32
  | 33 => 0x33B2EC6A#32
  | 34 => 0xB3B25B72#32
  | 35 => 0x33B1D8CF#32
  | 36 => 0xB3B16459#32
  | 37 => 0x33B0FDEA#32
  | 38 => 0xB3B0A563#32
  | 39 => 0x33B05AA9#32
  | 40 => 0xB3B01DA5#32
  | 41 => 0x33AFEE43#32
  | 42 => 0xB3AFCC75#32
  | 43 => 0x33AFB831#32
  | 44 => 0xB3AFB170#32
  | 45 => 0x33AFB831#32
  | 46 => 0xB3AFCC75#32
  | 47 => 0x33AFEE43#32
  | 48 => 0xB3B01DA5#32
  | 49 => 0x33B05AA9#32
  | 50 => 0xB3B0A563#32
  | 51 => 0x33B0FDEA#32
  | 52 => 0xB3B16459#32
  | 53 => 0x33B1D8CF#32
  | 54 => 0xB3B25B72#32
  | 55 => 0x33B2EC6A#32
  | 56 => 0xB3B38BE5#32
  | 57 => 0x33B43A15#32
  | 58 => 0xB3B4F732#32
  | 59 => 0x33B5C377#32
  | 60 => 0xB3B69F28#32
  | 61 => 0x33B78A8A#32
  | 62 => 0xB3B885EC#32
  | 63 => 0x33B9919E#32
  | 64 => 0xB3BAADFB#32
  | 65 => 0x33BBDB61#32
  | 66 => 0xB3BD1A36#32
  | 67 => 0x33BE6AE7#32
  | 68 => 0xB3BFCDE6#32
  | 69 => 0x33C143B0#32
  | 70 => 0xB3C2CCC7#32
  | 71 => 0x33C469B8#32
  | 72 => 0xB3C61B15#32
  | 73 => 0x33C7E17D#32
  | 74 => 0xB3C9BD97#32
  | 75 => 0x33CBB015#32
  | 76 => 0xB3CDB9B1#32
  | 77 => 0x33CFDB34#32
  | 78 => 0xB3D21572#32
  | 79 => 0x33D4694B#32
  | 80 => 0xB3D6D7AE#32
  | 81 => 0x33D96196#32
  | 82 => 0xB3DC0810#32
  | 83 => 0x33DECC38#32
  | 84 => 0xB3E1AF3D#32
  | 85 => 0x33E4B25D#32
  | 86 => 0xB3E7D6EF#32
  | 87 => 0x33EB1E5A#32
  | 88 => 0xB3EE8A1F#32
  | 89 => 0x33F21BD6#32
  | 90 => 0xB3F5D532#32
  | 91 => 0x33F9B800#32
  | 92 => 0xB3FDC62E#32
  | 93 => 0x340100E3#32
  | 94 => 0xB403367C#32
  | 95 => 0x3405850C#32
  | 96 => 0xB407EDD1#32
  | 97 => 0x340A721F#32
  | 98 => 0xB40D1360#32
  | 99 => 0x340FD31A#32
  | 100 => 0xB412B2ED#32
  | 101 => 0x3415B495#32
  | 102 => 0xB418D9F0#32
  | 103 => 0x341C2500#32
  | 104 => 0xB41F97EA#32
  | 105 => 0x342334FF#32
  | 106 => 0xB426FEBD#32
  | 107 => 0x342AF7D2#32
  | 108 => 0xB42F2322#32
  | 109 => 0x343383CC#32
  | 110 => 0xB4381D32#32
  | 111 => 0x343CF2FA#32
  | 112 => 0xB4420919#32
  | 113 => 0x344763DA#32
  | 114 => 0xB44D07E6#32
  | 115 => 0x3452FA51#32
  | 116 => 0xB45940A1#32
  | 117 => 0x345FE0DA#32
  | 118 => 0xB466E193#32
  | 119 => 0x346E49FF#32
  | 120 => 0xB4762200#32
  | 121 => 0x347E723F#32
  | 122 => 0xB483A221#32
  | 123 => 0x34885142#32
  | 124 => 0xB48D4C4D#32
  | 125 => 0x349299A5#32
  | 126 => 0xB4984061#32
  | 127 => 0x349E485F#32
  | _ => 0#32

noncomputable abbrev lit0t0_90 (i : Nat) : BitVec 32 := match i % 128 with
  | 0 => 0x349E485F#32
  | 1 => 0xB4A4BA5F#32
  | 2 => 0x34ABA023#32
  | 3 => 0xB4B30492#32
  | 4 => 0x34BAF3E5#32
  | 5 => 0xB4C37BD6#32
  | 6 => 0x34CCABDA#32
  | 7 => 0xB4D69568#32
  | 8 => 0x34E14C49#32
  | 9 => 0xB4ECE6F7#32
  | 10 => 0x34F97F13#32
  | 11 => 0xB50398F7#32
  | 12 => 0x350B1097#32
  | 13 => 0xB51339CD#32
  | 14 => 0x351C2B08#32
  | 15 => 0xB525FE56#32
  | 16 => 0x3530D21D#32
  | 17 => 0xB53CCA00#32
  | 18 => 0x354A0FF9#32
  | 19 => 0xB558D5BB#32
  | 20 => 0x35695670#32
  | 21 => 0xB57BD8F1#32
  | 22 => 0x3588594C#32
  | 23 => 0xB5942572#32
  | 24 => 0x35A19018#32
  | 25 => 0xB5B0E6EF#32
  | 26 => 0x35C28A3B#32
  | 27 => 0xB5D6F23A#32
  | 28 => 0x35EEB658#32
  | 29 => 0xB6054B76#32
  | 30 => 0x3615C529#32
  | 31 => 0xB6296767#32
  | 32 => 0x3641014B#32
  | 33 => 0xB65DA20C#32
  | 34 => 0x368056F2#32
  | 35 => 0xB695FBC4#32
  | 36 => 0x36B0ED61#32
  | 37 => 0xB6D29E9B#32
  | 38 => 0x36FFBDB2#32
  | 39 => 0xB692EE32#32
  | 40 => 0x391EBB1A#32
  | 41 => 0x3B12D0DF#32
  | 42 => 0x3CA0086D#32
  | 43 => 0x3DBAD58B#32
  | 44 => 0x3E6BB748#32
  | 45 => 0x3EA069FE#32
  | 46 => 0x3E6BB748#32
  | 47 => 0x3DBAD58B#32
  | 48 => 0x3CA0086D#32
  | 49 => 0x3B12D0DF#32
  | 50 => 0x391EBB1A#32
  | 51 => 0xB692EE32#32
  | 52 => 0x36FFBDB2#32
  | 53 => 0xB6D29E9B#32
  | 54 => 0x36B0ED61#32
  | 55 => 0xB695FBC4#32
  | 56 => 0x368056F2#32
  | 57 => 0xB65DA20C#32
  | 58 => 0x3641014B#32
  | 59 => 0xB6296767#32
  | 60 => 0x3615C529#32
  | 61 => 0xB6054B76#32
  | 62 => 0x35EEB658#32
  | 63 => 0xB5D6F23A#32
  | 64 => 0x35C28A3B#32
  | 65 => 0xB5B0E6EF#32
  | 66 => 0x35A19018#32
  | 67 => 0xB5942572#32
  | 68 => 0x3588594C#32
  | 69 => 0xB57BD8F1#32
  | 70 => 0x35695670#32
  | 71 => 0xB558D5BB#32
  | 72 => 0x354A0FF9#32
  | 73 => 0xB53CCA00#32
  | 74 => 0x3530D21D#32
  | 75 => 0xB525FE56#32
  | 76 => 0x351C2B08#32
  | 77 => 0xB51339CD#32
  | 78 => 0x350B1097#32
  | 79 => 0xB50398F7#32
  | 80 => 0x34F97F13#32
  | 81 => 0xB4ECE6F7#32
  | 82 => 0x34E14C49#32
  | 83 => 0xB4D69568#32
  | 84 => 0x34CCABDA#32
  | 85 => 0xB4C37BD6#32
  | 86 => 0x34BAF3E5#32
  | 87 => 0xB4B30492#32
  | 88 => 0x34ABA023#32
  | 89 => 0xB4A4BA5F#32
  | 90 => 0x349E485F#32
  | 91 => 0xB4984061#32
  | 92 => 0x349299A5#32
  | 93 => 0xB48D4C4D#32
  | 94 => 0x34885143#32
  | 95 => 0xB483A221#32
  | 96 => 0x347E723F#32
  | 97 => 0xB4762200#32
  | 98 => 0x346E49FF#32
  | 99 => 0xB466E193#32
  | 100 => 0x345FE0DA#32
  | 101 => 0xB45940A1#32
  | 102 => 0x3452FA51#32
  | 103 => 0xB44D07E6#32
  | 104 => 0x344763DA#32
  | 105 => 0xB4420919#32
  | 106 => 0x343CF2FA#32
  | 107 => 0xB4381D32#32
  | 108 => 0x343383CC#32
  | 109 => 0xB42F2322#32
  | 110 => 0x342AF7D2#32
  | 111 => 0xB426FEBD#32
  | 112 => 0x342334FF#32
  | 113 => 0xB41F97EA#32
  | 114 => 0x341C2500#32
  | 115 => 0xB418D9F0#32
  | 116 => 0x3415B495#32
  | 117 => 0xB412B2ED#32
  | 118 => 0x340FD31A#32
  | 119 => 0xB40D1360#32
  | 120 => 0x340A721F#32
  | 121 => 0xB407EDD1#32
  | 122 => 0x3405850C#32
  | 123 => 0xB403367C#32
  | 124 => 0x340100E3#32
  | 125 => 0xB3FDC62E#32
  | 126 => 0x33F9B800#32
  | 127 => 0xB3F5D532#32
  | _ => 0#32

noncomputable abbrev lit0t0_91 (i : Nat) : BitVec 32 := match i % 128 with
  | 0 => 0x33F21BD6#32
  | 1 => 0xB3EE8A1F#32
  | 2 => 0x33EB1E5A#32
  | 3 => 0xB3E7D6EF#32
  | 4 => 0x33E4B25D#32
  | 5 => 0xB3E1AF3D#32
  | 6 => 0x33DECC38#32
  | 7 => 0xB3DC0810#32
  | 8 => 0x33D96196#32
  | 9 => 0xB3D6D7AE#32
  | 10 => 0x33D4694B#32
  | 11 => 0xB3D21572#32
  | 12 => 0x33CFDB34#32
  | 13 => 0xB3CDB9B1#32
  | 14 => 0x33CBB015#32
  | 15 => 0xB3C9BD97#32
  | 16 => 0x33C7E17D#32
  | 17 => 0xB3C61B15#32
  | 18 => 0x33C469B8#32
  | 19 => 0xB3C2CCC7#32
  | 20 => 0x33C143B0#32
  | 21 => 0xB3BFCDE6#32
  | 22 => 0x33BE6AE7#32
  | 23 => 0xB3BD1A36#32
  | 24 => 0x33BBDB61#32
  | 25 => 0xB3BAADFB#32
  | 26 => 0x33B9919E#32
  | 27 => 0xB3B885EC#32
  | 28 => 0x33B78A8A#32
  | 29 => 0xB3B69F28#32
  | 30 => 0x33B5C377#32
  | 31 => 0xB3B4F732#32
  | 32 => 0x33B43A15#32
  | 33 => 0xB3B38BE5#32
  | 34 => 0x33B2EC6A#32
  | 35 => 0xB3B25B72#32
  | 36 => 0x33B1D8CF#32
  | 37 => 0xB3B16459#32
  | 38 => 0x33B0FDEA#32
  | 39 => 0xB3B0A563#32
  | 40 => 0x33B05AA9#32
  | 41 => 0xB3B01DA5#32
  | 42 => 0x33AFEE43#32
  | 43 => 0xB3AFCC75#32
  | 44 => 0x33AFB831#32
  | 45 => 0xB3AFB170#32
  | 46 => 0x33AFB831#32
  | 47 => 0xB3AFCC75#32
  | 48 => 0x33AFEE43#32
  | 49 => 0xB3B01DA5#32
  | 50 => 0x33B05AA9#32
  | 51 => 0xB3B0A563#32
  | 52 => 0x33B0FDEA#32
  | 53 => 0xB3B16459#32
  | 54 => 0x33B1D8CF#32
  | 55 => 0xB3B25B72#32
  | 56 => 0x33B2EC6A#32
  | 57 => 0xB3B38BE5#32
  | 58 => 0x33B43A15#32
  | 59 => 0xB3B4F732#32
  | 60 => 0x33B5C377#32
  | 61 => 0xB3B69F28#32
  | 62 => 0x33B78A8A#32
  | 63 => 0xB3B885EC#32
  | 64 => 0x33B9919E#32
  | 65 => 0xB3BAADFB#32
  | 66 => 0x33BBDB61#32
  | 67 => 0xB3BD1A36#32
  | 68 => 0x33BE6AE7#32
  | 69 => 0xB3BFCDE6#32
  | 70 => 0x33C143B0#32
  | 71 => 0xB3C2CCC7#32
  | 72 => 0x33C469B8#32
  | 73 => 0xB3C61B15#32
  | 74 => 0x33C7E17D#32
  | 75 => 0xB3C9BD97#32
  | 76 => 0x33CBB015#32
  | 77 => 0xB3CDB9B1#32
  | 78 => 0x33CFDB34#32
  | 79 => 0xB3D21572#32
  | 80 => 0x33D4694B#32
  | 81 => 0xB3D6D7AE#32
  | 82 => 0x33D96196#32
  | 83 => 0xB3DC0810#32
  | 84 => 0x33DECC38#32
  | 85 => 0xB3E1AF3D#32
  | 86 => 0x33E4B25D#32
  | 87 => 0xB3E7D6EF#32
  | 88 => 0x33EB1E5A#32
  | 89 => 0xB3EE8A1F#32
  | 90 => 0x33F21BD6#32
  | 91 => 0xB3F5D532#32
  | 92 => 0x33F9B800#32
  | 93 => 0xB3FDC62E#32
  | 94 => 0x340100E3#32
  | 95 => 0xB403367C#32
  | 96 => 0x3405850C#32
  | 97 => 0xB407EDD1#32
  | 98 => 0x340A721F#32
  | 99 => 0xB40D1360#32
  | 100 => 0x340FD31A#32
  | 101 => 0xB412B2ED#32
  | 102 => 0x3415B495#32
  | 103 => 0xB418D9F0#32
  | 104 => 0x341C2500#32
  | 105 => 0xB41F97EA#32
  | 106 => 0x342334FF#32
  | 107 => 0xB426FEBD#32
  | 108 => 0x342AF7D2#32
  | 109 => 0xB42F2322#32
  | 110 => 0x343383CC#32
  | 111 => 0xB4381D32#32
  | 112 => 0x343CF2FA#32
  | 113 => 0xB4420919#32
  | 114 => 0x344763DA#32
  | 115 => 0xB44D07E6#32
  | 116 => 0x3452FA51#32
  | 117 => 0xB45940A1#32
  | 118 => 0x345FE0DA#32
  | 119 => 0xB466E193#32
  | 120 => 0x346E49FF#32
  | 121 => 0xB4762200#32
  | 122 => 0x347E723F#32
  | 123 => 0xB483A221#32
  | 124 => 0x34885142#32
  | 125 => 0xB48D4C4D#32
  | 126 => 0x349299A5#32
  | 127 => 0xB4984061#32
  | _ => 0#32

noncomputable abbrev lit0t0_92 (i : Nat) : BitVec 32 := match i % 128 with
  | 0 => 0xB4984061#32
  | 1 => 0x349E485F#32
  | 2 => 0xB4A4BA5F#32
  | 3 => 0x34ABA023#32
  | 4 => 0xB4B30492#32
  | 5 => 0x34BAF3E5#32
  | 6 => 0xB4C37BD6#32
  | 7 => 0x34CCABDA#32
  | 8 => 0xB4D69568#32
  | 9 => 0x34E14C49#32
  | 10 => 0xB4ECE6F7#32
  | 11 => 0x34F97F13#32
  | 12 => 0xB50398F7#32
  | 13 => 0x350B1097#32
  | 14 => 0xB51339CD#32
  | 15 => 0x351C2B08#32
  | 16 => 0xB525FE56#32
  | 17 => 0x3530D21D#32
  | 18 => 0xB53CCA00#32
  | 19 => 0x354A0FF9#32
  | 20 => 0xB558D5BB#32
  | 21 => 0x35695670#32
  | 22 => 0xB57BD8F1#32
  | 23 => 0x3588594C#32
  | 24 => 0xB5942572#32
  | 25 => 0x35A19018#32
  | 26 => 0xB5B0E6EF#32
  | 27 => 0x35C28A3B#32
  | 28 => 0xB5D6F23A#32
  | 29 => 0x35EEB658#32
  | 30 => 0xB6054B76#32
  | 31 => 0x3615C529#32
  | 32 => 0xB6296767#32
  | 33 => 0x3641014B#32
  | 34 => 0xB65DA20C#32
  | 35 => 0x368056F2#32
  | 36 => 0xB695FBC4#32
  | 37 => 0x36B0ED61#32
  | 38 => 0xB6D29E9B#32
  | 39 => 0x36FFBDB2#32
  | 40 => 0xB692EE32#32
  | 41 => 0x391EBB1A#32
  | 42 => 0x3B12D0DF#32
  | 43 => 0x3CA0086D#32
  | 44 => 0x3DBAD58B#32
  | 45 => 0x3E6BB748#32
  | 46 => 0x3EA069FE#32
  | 47 => 0x3E6BB748#32
  | 48 => 0x3DBAD58B#32
  | 49 => 0x3CA0086D#32
  | 50 => 0x3B12D0DF#32
  | 51 => 0x391EBB1A#32
  | 52 => 0xB692EE32#32
  | 53 => 0x36FFBDB2#32
  | 54 => 0xB6D29E9B#32
  | 55 => 0x36B0ED61#32
  | 56 => 0xB695FBC4#32
  | 57 => 0x368056F2#32
  | 58 => 0xB65DA20C#32
  | 59 => 0x3641014B#32
  | 60 => 0xB6296767#32
  | 61 => 0x3615C529#32
  | 62 => 0xB6054B76#32
  | 63 => 0x35EEB658#32
  | 64 => 0xB5D6F23A#32
  | 65 => 0x35C28A3B#32
  | 66 => 0xB5B0E6EF#32
  | 67 => 0x35A19018#32
  | 68 => 0xB5942572#32
  | 69 => 0x3588594C#32
  | 70 => 0xB57BD8F1#32
  | 71 => 0x35695670#32
  | 72 => 0xB558D5BB#32
  | 73 => 0x354A0FF9#32
  | 74 => 0xB53CCA00#32
  | 75 => 0x3530D21D#32
  | 76 => 0xB525FE56#32
  | 77 => 0x351C2B08#32
  | 78 => 0xB51339CD#32
  | 79 => 0x350B1097#32
  | 80 => 0xB50398F7#32
  | 81 => 0x34F97F13#32
  | 82 => 0xB4ECE6F7#32
  | 83 => 0x34E14C49#32
  | 84 => 0xB4D69568#32
  | 85 => 0x34CCABDA#32
  | 86 => 0xB4C37BD6#32
  | 87 => 0x34BAF3E5#32
  | 88 => 0xB4B30492#32
  | 89 => 0x34ABA023#32
  | 90 => 0xB4A4BA5F#32
  | 91 => 0x349E485F#32
  | 92 => 0xB4984061#32
  | 93 => 0x349299A5#32
  | 94 => 0xB48D4C4D#32
  | 95 => 0x34885143#32
  | 96 => 0xB483A221#32
  | 97 => 0x347E723F#32
  | 98 => 0xB4762200#32
  | 99 => 0x346E49FF#32
  | 100 => 0xB466E193#32
  | 101 => 0x345FE0DA#32
  | 102 => 0xB45940A1#32
  | 103 => 0x3452FA51#32
  | 104 => 0xB44D07E6#32
  | 105 => 0x344763DA#32
  | 106 => 0xB4420919#32
  | 107 => 0x343CF2FA#32
  | 108 => 0xB4381D32#32
  | 109 => 0x343383CC#32
  | 110 => 0xB42F2322#32
  | 111 => 0x342AF7D2#32
  | 112 => 0xB426FEBD#32
  | 113 => 0x342334FF#32
  | 114 => 0xB41F97EA#32
  | 115 => 0x341C2500#32
  | 116 => 0xB418D9F0#32
  | 117 => 0x3415B495#32
  | 118 => 0xB412B2ED#32
  | 119 => 0x340FD31A#32
  | 120 => 0xB40D1360#32
  | 121 => 0x340A721F#32
  | 122 => 0xB407EDD1#32
  | 123 => 0x3405850C#32
  | 124 => 0xB403367C#32
  | 125 => 0x340100E3#32
  | 126 => 0xB3FDC62E#32
  | 127 => 0x33F9B800#32
  | _ => 0#32

noncomputable abbrev lit0t0_93 (i : Nat) : BitVec 32 := match i % 128 with
  | 0 => 0xB3F5D532#32
  | 1 => 0x33F21BD6#32
  | 2 => 0xB3EE8A1F#32
  | 3 => 0x33EB1E5A#32
  | 4 => 0xB3E7D6EF#32
  | 5 => 0x33E4B25D#32
  | 6 => 0xB3E1AF3D#32
  | 7 => 0x33DECC38#32
  | 8 => 0xB3DC0810#32
  | 9 => 0x33D96196#32
  | 10 => 0xB3D6D7AE#32
  | 11 => 0x33D4694B#32
  | 12 => 0xB3D21572#32
  | 13 => 0x33CFDB34#32
  | 14 => 0xB3CDB9B1#32
  | 15 => 0x33CBB015#32
  | 16 => 0xB3C9BD97#32
  | 17 => 0x33C7E17D#32
  | 18 => 0xB3C61B15#32
  | 19 => 0x33C469B8#32
  | 20 => 0xB3C2CCC7#32
  | 21 => 0x33C143B0#32
  | 22 => 0xB3BFCDE6#32
  | 23 => 0x33BE6AE7#32
  | 24 => 0xB3BD1A36#32
  | 25 => 0x33BBDB61#32
  | 26 => 0xB3BAADFB#32
  | 27 => 0x33B9919E#32
  | 28 => 0xB3B885EC#32
  | 29 => 0x33B78A8A#32
  | 30 => 0xB3B69F28#32
  | 31 => 0x33B5C377#32
  | 32 => 0xB3B4F732#32
  | 33 => 0x33B43A15#32
  | 34 => 0xB3B38BE5#32
  | 35 => 0x33B2EC6A#32
  | 36 => 0xB3B25B72#32
  | 37 => 0x33B1D8CF#32
  | 38 => 0xB3B16459#32
  | 39 => 0x33B0FDEA#32
  | 40 => 0xB3B0A563#32
  | 41 => 0x33B05AA9#32
  | 42 => 0xB3B01DA5#32
  | 43 => 0x33AFEE43#32
  | 44 => 0xB3AFCC75#32
  | 45 => 0x33AFB831#32
  | 46 => 0xB3AFB170#32
  | 47 => 0x33AFB831#32
  | 48 => 0xB3AFCC75#32
  | 49 => 0x33AFEE43#32
  | 50 => 0xB3B01DA5#32
  | 51 => 0x33B05AA9#32
  | 52 => 0xB3B0A563#32
  | 53 => 0x33B0FDEA#32
  | 54 => 0xB3B16459#32
  | 55 => 0x33B1D8CF#32
  | 56 => 0xB3B25B72#32
  | 57 => 0x33B2EC6A#32
  | 58 => 0xB3B38BE5#32
  | 59 => 0x33B43A15#32
  | 60 => 0xB3B4F732#32
  | 61 => 0x33B5C377#32
  | 62 => 0xB3B69F28#32
  | 63 => 0x33B78A8A#32
  | 64 => 0xB3B885EC#32
  | 65 => 0x33B9919E#32
  | 66 => 0xB3BAADFB#32
  | 67 => 0x33BBDB61#32
  | 68 => 0xB3BD1A36#32
  | 69 => 0x33BE6AE7#32
  | 70 => 0xB3BFCDE6#32
  | 71 => 0x33C143B0#32
  | 72 => 0xB3C2CCC7#32
  | 73 => 0x33C469B8#32
  | 74 => 0xB3C61B15#32
  | 75 => 0x33C7E17D#32
  | 76 => 0xB3C9BD97#32
  | 77 => 0x33CBB015#32
  | 78 => 0xB3CDB9B1#32
  | 79 => 0x33CFDB34#32
  | 80 => 0xB3D21572#32
  | 81 => 0x33D4694B#32
  | 82 => 0xB3D6D7AE#32
  | 83 => 0x33D96196#32
  | 84 => 0xB3DC0810#32
  | 85 => 0x33DECC38#32
  | 86 => 0xB3E1AF3D#32
  | 87 => 0x33E4B25D#32
  | 88 => 0xB3E7D6EF#32
  | 89 => 0x33EB1E5A#32
  | 90 => 0xB3EE8A1F#32
  | 91 => 0x33F21BD6#32
  | 92 => 0xB3F5D532#32
  | 93 => 0x33F9B800#32
  | 94 => 0xB3FDC62E#32
  | 95 => 0x340100E3#32
  | 96 => 0xB403367C#32
  | 97 => 0x3405850C#32
  | 98 => 0xB407EDD1#32
  | 99 => 0x340A721F#32
  | 100 => 0xB40D1360#32
  | 101 => 0x340FD31A#32
  | 102 => 0xB412B2ED#32
  | 103 => 0x3415B495#32
  | 104 => 0xB418D9F0#32
  | 105 => 0x341C2500#32
  | 106 => 0xB41F97EA#32
  | 107 => 0x342334FF#32
  | 108 => 0xB426FEBD#32
  | 109 => 0x342AF7D2#32
  | 110 => 0xB42F2322#32
  | 111 => 0x343383CC#32
  | 112 => 0xB4381D32#32
  | 113 => 0x343CF2FA#32
  | 114 => 0xB4420919#32
  | 115 => 0x344763DA#32
  | 116 => 0xB44D07E6#32
  | 117 => 0x3452FA51#32
  | 118 => 0xB45940A1#32
  | 119 => 0x345FE0DA#32
  | 120 => 0xB466E193#32
  | 121 => 0x346E49FF#32
  | 122 => 0xB4762200#32
  | 123 => 0x347E723F#32
  | 124 => 0xB483A221#32
  | 125 => 0x34885142#32
  | 126 => 0xB48D4C4D#32
  | 127 => 0x349299A5#32
  | _ => 0#32

noncomputable abbrev lit0t0_94 (i : Nat) : BitVec 32 := match i % 128 with
  | 0 => 0x349299A5#32
  | 1 => 0xB4984061#32
  | 2 => 0x349E485F#32
  | 3 => 0xB4A4BA5F#32
  | 4 => 0x34ABA023#32
  | 5 => 0xB4B30492#32
  | 6 => 0x34BAF3E5#32
  | 7 => 0xB4C37BD6#32
  | 8 => 0x34CCABDA#32
  | 9 => 0xB4D69568#32
  | 10 => 0x34E14C49#32
  | 11 => 0xB4ECE6F7#32
  | 12 => 0x34F97F13#32
  | 13 => 0xB50398F7#32
  | 14 => 0x350B1097#32
  | 15 => 0xB51339CD#32
  | 16 => 0x351C2B08#32
  | 17 => 0xB525FE56#32
  | 18 => 0x3530D21D#32
  | 19 => 0xB53CCA00#32
  | 20 => 0x354A0FF9#32
  | 21 => 0xB558D5BB#32
  | 22 => 0x35695670#32
  | 23 => 0xB57BD8F1#32
  | 24 => 0x3588594C#32
  | 25 => 0xB5942572#32
  | 26 => 0x35A19018#32
  | 27 => 0xB5B0E6EF#32
  | 28 => 0x35C28A3B#32
  | 29 => 0xB5D6F23A#32
  | 30 => 0x35EEB658#32
  | 31 => 0xB6054B76#32
  | 32 => 0x3615C529#32
  | 33 => 0xB6296767#32
  | 34 => 0x3641014B#32
  | 35 => 0xB65DA20C#32
  | 36 => 0x368056F2#32
  | 37 => 0xB695FBC4#32
  | 38 => 0x36B0ED61#32
  | 39 => 0xB6D29E9B#32
  | 40 => 0x36FFBDB2#32
  | 41 => 0xB692EE32#32
  | 42 => 0x391EBB1A#32
  | 43 => 0x3B12D0DF#32
  | 44 => 0x3CA0086D#32
  | 45 => 0x3DBAD58B#32
  | 46 => 0x3E6BB748#32
  | 47 => 0x3EA069FE#32
  | 48 => 0x3E6BB748#32
  | 49 => 0x3DBAD58B#32
  | 50 => 0x3CA0086D#32
  | 51 => 0x3B12D0DF#32
  | 52 => 0x391EBB1A#32
  | 53 => 0xB692EE32#32
  | 54 => 0x36FFBDB2#32
  | 55 => 0xB6D29E9B#32
  | 56 => 0x36B0ED61#32
  | 57 => 0xB695FBC4#32
  | 58 => 0x368056F2#32
  | 59 => 0xB65DA20C#32
  | 60 => 0x3641014B#32
  | 61 => 0xB6296767#32
  | 62 => 0x3615C529#32
  | 63 => 0xB6054B76#32
  | 64 => 0x35EEB658#32
  | 65 => 0xB5D6F23A#32
  | 66 => 0x35C28A3B#32
  | 67 => 0xB5B0E6EF#32
  | 68 => 0x35A19018#32
  | 69 => 0xB5942572#32
  | 70 => 0x3588594C#32
  | 71 => 0xB57BD8F1#32
  | 72 => 0x35695670#32
  | 73 => 0xB558D5BB#32
  | 74 => 0x354A0FF9#32
  | 75 => 0xB53CCA00#32
  | 76 => 0x3530D21D#32
  | 77 => 0xB525FE56#32
  | 78 => 0x351C2B08#32
  | 79 => 0xB51339CD#32
  | 80 => 0x350B1097#32
  | 81 => 0xB50398F7#32
  | 82 => 0x34F97F13#32
  | 83 => 0xB4ECE6F7#32
  | 84 => 0x34E14C49#32
  | 85 => 0xB4D69568#32
  | 86 => 0x34CCABDA#32
  | 87 => 0xB4C37BD6#32
  | 88 => 0x34BAF3E5#32
  | 89 => 0xB4B30492#32
  | 90 => 0x34ABA023#32
  | 91 => 0xB4A4BA5F#32
  | 92 => 0x349E485F#32
  | 93 => 0xB4984061#32
  | 94 => 0x349299A5#32
  | 95 => 0xB48D4C4D#32
  | 96 => 0x34885143#32
  | 97 => 0xB483A221#32
  | 98 => 0x347E723F#32
  | 99 => 0xB4762200#32
  | 100 => 0x346E49FF#32
  | 101 => 0xB466E193#32
  | 102 => 0x345FE0DA#32
  | 103 => 0xB45940A1#32
  | 104 => 0x3452FA51#32
  | 105 => 0xB44D07E6#32
  | 106 => 0x344763DA#32
  | 107 => 0xB4420919#32
  | 108 => 0x343CF2FA#32
  | 109 => 0xB4381D32#32
  | 110 => 0x343383CC#32
  | 111 => 0xB42F2322#32
  | 112 => 0x342AF7D2#32
  | 113 => 0xB426FEBD#32
  | 114 => 0x342334FF#32
  | 115 => 0xB41F97EA#32
  | 116 => 0x341C2500#32
  | 117 => 0xB418D9F0#32
  | 118 => 0x3415B495#32
  | 119 => 0xB412B2ED#32
  | 120 => 0x340FD31A#32
  | 121 => 0xB40D1360#32
  | 122 => 0x340A721F#32
  | 123 => 0xB407EDD1#32
  | 124 => 0x3405850C#32
  | 125 => 0xB403367C#32
  | 126 => 0x340100E3#32
  | 127 => 0xB3FDC62E#32
  | _ => 0#32

noncomputable abbrev lit0t0_95 (i : Nat) : BitVec 32 := match i % 128 with
  | 0 => 0x33F9B800#32
  | 1 => 0xB3F5D532#32
  | 2 => 0x33F21BD6#32
  | 3 => 0xB3EE8A1F#32
  | 4 => 0x33EB1E5A#32
  | 5 => 0xB3E7D6EF#32
  | 6 => 0x33E4B25D#32
  | 7 => 0xB3E1AF3D#32
  | 8 => 0x33DECC38#32
  | 9 => 0xB3DC0810#32
  | 10 => 0x33D96196#32
  | 11 => 0xB3D6D7AE#32
  | 12 => 0x33D4694B#32
  | 13 => 0xB3D21572#32
  | 14 => 0x33CFDB34#32
  | 15 => 0xB3CDB9B1#32
  | 16 => 0x33CBB015#32
  | 17 => 0xB3C9BD97#32
  | 18 => 0x33C7E17D#32
  | 19 => 0xB3C61B15#32
  | 20 => 0x33C469B8#32
  | 21 => 0xB3C2CCC7#32
  | 22 => 0x33C143B0#32
  | 23 => 0xB3BFCDE6#32
  | 24 => 0x33BE6AE7#32
  | 25 => 0xB3BD1A36#32
  | 26 => 0x33BBDB61#32
  | 27 => 0xB3BAADFB#32
  | 28 => 0x33B9919E#32
  | 29 => 0xB3B885EC#32
  | 30 => 0x33B78A8A#32
  | 31 => 0xB3B69F28#32
  | 32 => 0x33B5C377#32
  | 33 => 0xB3B4F732#32
  | 34 => 0x33B43A15#32
  | 35 => 0xB3B38BE5#32
  | 36 => 0x33B2EC6A#32
  | 37 => 0xB3B25B72#32
  | 38 => 0x33B1D8CF#32
  | 39 => 0xB3B16459#32
  | 40 => 0x33B0FDEA#32
  | 41 => 0xB3B0A563#32
  | 42 => 0x33B05AA9#32
  | 43 => 0xB3B01DA5#32
  | 44 => 0x33AFEE43#32
  | 45 => 0xB3AFCC75#32
  | 46 => 0x33AFB831#32
  | 47 => 0xB3AFB170#32
  | 48 => 0x33AFB831#32
  | 49 => 0xB3AFCC75#32
  | 50 => 0x33AFEE43#32
  | 51 => 0xB3B01DA5#32
  | 52 => 0x33B05AA9#32
  | 53 => 0xB3B0A563#32
  | 54 => 0x33B0FDEA#32
  | 55 => 0xB3B16459#32
  | 56 => 0x33B1D8CF#32
  | 57 => 0xB3B25B72#32
  | 58 => 0x33B2EC6A#32
  | 59 => 0xB3B38BE5#32
  | 60 => 0x33B43A15#32
  | 61 => 0xB3B4F732#32
  | 62 => 0x33B5C377#32
  | 63 => 0xB3B69F28#32
  | 64 => 0x33B78A8A#32
  | 65 => 0xB3B885EC#32
  | 66 => 0x33B9919E#32
  | 67 => 0xB3BAADFB#32
  | 68 => 0x33BBDB61#32
  | 69 => 0xB3BD1A36#32
  | 70 => 0x33BE6AE7#32
  | 71 => 0xB3BFCDE6#32
  | 72 => 0x33C143B0#32
  | 73 => 0xB3C2CCC7#32
  | 74 => 0x33C469B8#32
  | 75 => 0xB3C61B15#32
  | 76 => 0x33C7E17D#32
  | 77 => 0xB3C9BD97#32
  | 78 => 0x33CBB015#32
  | 79 => 0xB3CDB9B1#32
  | 80 => 0x33CFDB34#32
  | 81 => 0xB3D21572#32
  | 82 => 0x33D4694B#32
  | 83 => 0xB3D6D7AE#32
  | 84 => 0x33D96196#32
  | 85 => 0xB3DC0810#32
  | 86 => 0x33DECC38#32
  | 87 => 0xB3E1AF3D#32
  | 88 => 0x33E4B25D#32
  | 89 => 0xB3E7D6EF#32
  | 90 => 0x33EB1E5A#32
  | 91 => 0xB3EE8A1F#32
  | 92 => 0x33F21BD6#32
  | 93 => 0xB3F5D532#32
  | 94 => 0x33F9B800#32
  | 95 => 0xB3FDC62E#32
  | 96 => 0x340100E3#32
  | 97 => 0xB403367C#32
  | 98 => 0x3405850C#32
  | 99 => 0xB407EDD1#32
  | 100 => 0x340A721F#32
  | 101 => 0xB40D1360#32
  | 102 => 0x340FD31A#32
  | 103 => 0xB412B2ED#32
  | 104 => 0x3415B495#32
  | 105 => 0xB418D9F0#32
  | 106 => 0x341C2500#32
  | 107 => 0xB41F97EA#32
  | 108 => 0x342334FF#32
  | 109 => 0xB426FEBD#32
  | 110 => 0x342AF7D2#32
  | 111 => 0xB42F2322#32
  | 112 => 0x343383CC#32
  | 113 => 0xB4381D32#32
  | 114 => 0x343CF2FA#32
  | 115 => 0xB4420919#32
  | 116 => 0x344763DA#32
  | 117 => 0xB44D07E6#32
  | 118 => 0x3452FA51#32
  | 119 => 0xB45940A1#32
  | 120 => 0x345FE0DA#32
  | 121 => 0xB466E193#32
  | 122 => 0x346E49FF#32
  | 123 => 0xB4762200#32
  | 124 => 0x347E723F#32
  | 125 => 0xB483A221#32
  | 126 => 0x34885143#32
  | 127 => 0xB48D4C4D#32
  | _ => 0#32

noncomputable abbrev lit0t0_96 (i : Nat) : BitVec 32 := match i % 128 with
  | 0 => 0xB48D4C4D#32
  | 1 => 0x349299A5#32
  | 2 => 0xB4984061#32
  | 3 => 0x349E485F#32
  | 4 => 0xB4A4BA5F#32
  | 5 => 0x34ABA023#32
  | 6 => 0xB4B30492#32
  | 7 => 0x34BAF3E5#32
  | 8 => 0xB4C37BD6#32
  | 9 => 0x34CCABDA#32
  | 10 => 0xB4D69568#32
  | 11 => 0x34E14C49#32
  | 12 => 0xB4ECE6F7#32
  | 13 => 0x34F97F13#32
  | 14 => 0xB50398F7#32
  | 15 => 0x350B1097#32
  | 16 => 0xB51339CD#32
  | 17 => 0x351C2B08#32
  | 18 => 0xB525FE56#32
  | 19 => 0x3530D21D#32
  | 20 => 0xB53CCA00#32
  | 21 => 0x354A0FF9#32
  | 22 => 0xB558D5BB#32
  | 23 => 0x35695670#32
  | 24 => 0xB57BD8F1#32
  | 25 => 0x3588594C#32
  | 26 => 0xB5942572#32
  | 27 => 0x35A19018#32
  | 28 => 0xB5B0E6EF#32
  | 29 => 0x35C28A3B#32
  | 30 => 0xB5D6F23A#32
  | 31 => 0x35EEB658#32
  | 32 => 0xB6054B76#32
  | 33 => 0x3615C529#32
  | 34 => 0xB6296767#32
  | 35 => 0x3641014B#32
  | 36 => 0xB65DA20C#32
  | 37 => 0x368056F2#32
  | 38 => 0xB695FBC4#32
  | 39 => 0x36B0ED61#32
  | 40 => 0xB6D29E9B#32
  | 41 => 0x36FFBDB2#32
  | 42 => 0xB692EE32#32
  | 43 => 0x391EBB1A#32
  | 44 => 0x3B12D0DF#32
  | 45 => 0x3CA0086D#32
  | 46 => 0x3DBAD58B#32
  | 47 => 0x3E6BB748#32
  | 48 => 0x3EA069FE#32
  | 49 => 0x3E6BB748#32
  | 50 => 0x3DBAD58B#32
  | 51 => 0x3CA0086D#32
  | 52 => 0x3B12D0DF#32
  | 53 => 0x391EBB1A#32
  | 54 => 0xB692EE32#32
  | 55 => 0x36FFBDB2#32
  | 56 => 0xB6D29E9B#32
  | 57 => 0x36B0ED61#32
  | 58 => 0xB695FBC4#32
  | 59 => 0x368056F2#32
  | 60 => 0xB65DA20C#32
  | 61 => 0x3641014B#32
  | 62 => 0xB6296767#32
  | 63 => 0x3615C529#32
  | 64 => 0xB6054B76#32
  | 65 => 0x35EEB658#32
  | 66 => 0xB5D6F23A#32
  | 67 => 0x35C28A3B#32
  | 68 => 0xB5B0E6EF#32
  | 69 => 0x35A19018#32
  | 70 => 0xB5942572#32
  | 71 => 0x3588594C#32
  | 72 => 0xB57BD8F1#32
  | 73 => 0x35695670#32
  | 74 => 0xB558D5BB#32
  | 75 => 0x354A0FF9#32
  | 76 => 0xB53CCA00#32
  | 77 => 0x3530D21D#32
  | 78 => 0xB525FE56#32
  | 79 => 0x351C2B08#32
  | 80 => 0xB51339CD#32
  | 81 => 0x350B1097#32
  | 82 => 0xB50398F7#32
  | 83 => 0x34F97F13#32
  | 84 => 0xB4ECE6F7#32
  | 85 => 0x34E14C49#32
  | 86 => 0xB4D69568#32
  | 87 => 0x34CCABDA#32
  | 88 => 0xB4C37BD6#32
  | 89 => 0x34BAF3E5#32
  | 90 => 0xB4B30492#32
  | 91 => 0x34ABA023#32
  | 92 => 0xB4A4BA5F#32
  | 93 => 0x349E485F#32
  | 94 => 0xB4984061#32
  | 95 => 0x349299A5#32
  | 96 => 0xB48D4C4D#32
  | 97 => 0x34885143#32
  | 98 => 0xB483A221#32
  | 99 => 0x347E723F#32
  | 100 => 0xB4762200#32
  | 101 => 0x346E49FF#32
  | 102 => 0xB466E193#32
  | 103 => 0x345FE0DA#32
  | 104 => 0xB45940A1#32
  | 105 => 0x3452FA51#32
  | 106 => 0xB44D07E6#32
  | 107 => 0x344763DA#32
  | 108 => 0xB4420919#32
  | 109 => 0x343CF2FA#32
  | 110 => 0xB4381D32#32
  | 111 => 0x343383CC#32
  | 112 => 0xB42F2322#32
  | 113 => 0x342AF7D2#32
  | 114 => 0xB426FEBD#32
  | 115 => 0x342334FF#32
  | 116 => 0xB41F97EA#32
  | 117 => 0x341C2500#32
  | 118 => 0xB418D9F0#32
  | 119 => 0x3415B495#32
  | 120 => 0xB412B2ED#32
  | 121 => 0x340FD31A#32
  | 122 => 0xB40D1360#32
  | 123 => 0x340A721F#32
  | 124 => 0xB407EDD1#32
  | 125 => 0x3405850C#32
  | 126 => 0xB403367C#32
  | 127 => 0x340100E3#32
  | _ => 0#32

noncomputable abbrev lit0t0_97 (i : Nat) : BitVec 32 := match i % 128 with
  | 0 => 0xB3FDC62E#32
  | 1 => 0x33F9B800#32
  | 2 => 0xB3F5D532#32
  | 3 => 0x33F21BD6#32
  | 4 => 0xB3EE8A1F#32
  | 5 => 0x33EB1E5A#32
  | 6 => 0xB3E7D6EF#32
  | 7 => 0x33E4B25D#32
  | 8 => 0xB3E1AF3D#32
  | 9 => 0x33DECC38#32
  | 10 => 0xB3DC0810#32
  | 11 => 0x33D96196#32
  | 12 => 0xB3D6D7AE#32
  | 13 => 0x33D4694B#32
  | 14 => 0xB3D21572#32
  | 15 => 0x33CFDB34#32
  | 16 => 0xB3CDB9B1#32
  | 17 => 0x33CBB015#32
  | 18 => 0xB3C9BD97#32
  | 19 => 0x33C7E17D#32
  | 20 => 0xB3C61B15#32
  | 21 => 0x33C469B8#32
  | 22 => 0xB3C2CCC7#32
  | 23 => 0x33C143B0#32
  | 24 => 0xB3BFCDE6#32
  | 25 => 0x33BE6AE7#32
  | 26 => 0xB3BD1A36#32
  | 27 => 0x33BBDB61#32
  | 28 => 0xB3BAADFB#32
  | 29 => 0x33B9919E#32
  | 30 => 0xB3B885EC#32
  | 31 => 0x33B78A8A#32
  | 32 => 0xB3B69F28#32
  | 33 => 0x33B5C377#32
  | 34 => 0xB3B4F732#32
  | 35 => 0x33B43A15#32
  | 36 => 0xB3B38BE5#32
  | 37 => 0x33B2EC6A#32
  | 38 => 0xB3B25B72#32
  | 39 => 0x33B1D8CF#32
  | 40 => 0xB3B16459#32
  | 41 => 0x33B0FDEA#32
  | 42 => 0xB3B0A563#32
  | 43 => 0x33B05AA9#32
  | 44 => 0xB3B01DA5#32
  | 45 => 0x33AFEE43#32
  | 46 => 0xB3AFCC75#32
  | 47 => 0x33AFB831#32
  | 48 => 0xB3AFB170#32
  | 49 => 0x33AFB831#32
  | 50 => 0xB3AFCC75#32
  | 51 => 0x33AFEE43#32
  | 52 => 0xB3B01DA5#32
  | 53 => 0x33B05AA9#32
  | 54 => 0xB3B0A563#32
  | 55 => 0x33B0FDEA#32
  | 56 => 0xB3B16459#32
  | 57 => 0x33B1D8CF#32
  | 58 => 0xB3B25B72#32
  | 59 => 0x33B2EC6A#32
  | 60 => 0xB3B38BE5#32
  | 61 => 0x33B43A15#32
  | 62 => 0xB3B4F732#32
  | 63 => 0x33B5C377#32
  | 64 => 0xB3B69F28#32
  | 65 => 0x33B78A8A#32
  | 66 => 0xB3B885EC#32
  | 67 => 0x33B9919E#32
  | 68 => 0xB3BAADFB#32
  | 69 => 0x33BBDB61#32
  | 70 => 0xB3BD1A36#32
  | 71 => 0x33BE6AE7#32
  | 72 => 0xB3BFCDE6#32
  | 73 => 0x33C143B0#32
  | 74 => 0xB3C2CCC7#32
  | 75 => 0x33C469B8#32
  | 76 => 0xB3C61B15#32
  | 77 => 0x33C7E17D#32
  | 78 => 0xB3C9BD97#32
  | 79 => 0x33CBB015#32
  | 80 => 0xB3CDB9B1#32
  | 81 => 0x33CFDB34#32
  | 82 => 0xB3D21572#32
  | 83 => 0x33D4694B#32
  | 84 => 0xB3D6D7AE#32
  | 85 => 0x33D96196#32
  | 86 => 0xB3DC0810#32
  | 87 => 0x33DECC38#32
  | 88 => 0xB3E1AF3D#32
  | 89 => 0x33E4B25D#32
  | 90 => 0xB3E7D6EF#32
  | 91 => 0x33EB1E5A#32
  | 92 => 0xB3EE8A1F#32
  | 93 => 0x33F21BD6#32
  | 94 => 0xB3F5D532#32
  | 95 => 0x33F9B800#32
  | 96 => 0xB3FDC62E#32
  | 97 => 0x340100E3#32
  | 98 => 0xB403367C#32
  | 99 => 0x3405850C#32
  | 100 => 0xB407EDD1#32
  | 101 => 0x340A721F#32
  | 102 => 0xB40D1360#32
  | 103 => 0x340FD31A#32
  | 104 => 0xB412B2ED#32
  | 105 => 0x3415B495#32
  | 106 => 0xB418D9F0#32
  | 107 => 0x341C2500#32
  | 108 => 0xB41F97EA#32
  | 109 => 0x342334FF#32
  | 110 => 0xB426FEBD#32
  | 111 => 0x342AF7D2#32
  | 112 => 0xB42F2322#32
  | 113 => 0x343383CC#32
  | 114 => 0xB4381D32#32
  | 115 => 0x343CF2FA#32
  | 116 => 0xB4420919#32
  | 117 => 0x344763DA#32
  | 118 => 0xB44D07E6#32
  | 119 => 0x3452FA51#32
  | 120 => 0xB45940A1#32
  | 121 => 0x345FE0DA#32
  | 122 => 0xB466E193#32
  | 123 => 0x346E49FF#32
  | 124 => 0xB4762200#32
  | 125 => 0x347E723F#32
  | 126 => 0xB483A221#32
  | 127 => 0x34885143#32
  | _ => 0#32

noncomputable abbrev lit0t0_98 (i : Nat) : BitVec 32 := match i % 128 with
  | 0 => 0x34885143#32
  | 1 => 0xB48D4C4D#32
  | 2 => 0x349299A5#32
  | 3 => 0xB4984061#32
  | 4 => 0x349E485F#32
  | 5 => 0xB4A4BA5F#32
  | 6 => 0x34ABA023#32
  | 7 => 0xB4B30492#32
  | 8 => 0x34BAF3E5#32
  | 9 => 0xB4C37BD6#32
  | 10 => 0x34CCABDA#32
  | 11 => 0xB4D69568#32
  | 12 => 0x34E14C49#32
  | 13 => 0xB4ECE6F7#32
  | 14 => 0x34F97F13#32
  | 15 => 0xB50398F7#32
  | 16 => 0x350B1097#32
  | 17 => 0xB51339CD#32
  | 18 => 0x351C2B08#32
  | 19 => 0xB525FE56#32
  | 20 => 0x3530D21D#32
  | 21 => 0xB53CCA00#32
  | 22 => 0x354A0FF9#32
  | 23 => 0xB558D5BB#32
  | 24 => 0x35695670#32
  | 25 => 0xB57BD8F1#32
  | 26 => 0x3588594C#32
  | 27 => 0xB5942572#32
  | 28 => 0x35A19018#32
  | 29 => 0xB5B0E6EF#32
  | 30 => 0x35C28A3B#32
  | 31 => 0xB5D6F23A#32
  | 32 => 0x35EEB658#32
  | 33 => 0xB6054B76#32
  | 34 => 0x3615C529#32
  | 35 => 0xB6296767#32
  | 36 => 0x3641014B#32
  | 37 => 0xB65DA20C#32
  | 38 => 0x368056F2#32
  | 39 => 0xB695FBC4#32
  | 40 => 0x36B0ED61#32
  | 41 => 0xB6D29E9B#32
  | 42 => 0x36FFBDB2#32
  | 43 => 0xB692EE32#32
  | 44 => 0x391EBB1A#32
  | 45 => 0x3B12D0DF#32
  | 46 => 0x3CA0086D#32
  | 47 => 0x3DBAD58B#32
  | 48 => 0x3E6BB748#32
  | 49 => 0x3EA069FE#32
  | 50 => 0x3E6BB748#32
  | 51 => 0x3DBAD58B#32
  | 52 => 0x3CA0086D#32
  | 53 => 0x3B12D0DF#32
  | 54 => 0x391EBB1A#32
  | 55 => 0xB692EE32#32
  | 56 => 0x36FFBDB2#32
  | 57 => 0xB6D29E9B#32
  | 58 => 0x36B0ED61#32
  | 59 => 0xB695FBC4#32
  | 60 => 0x368056F2#32
  | 61 => 0xB65DA20C#32
  | 62 => 0x3641014B#32
  | 63 => 0xB6296767#32
  | 64 => 0x3615C529#32
  | 65 => 0xB6054B76#32
  | 66 => 0x35EEB658#32
  | 67 => 0xB5D6F23A#32
  | 68 => 0x35C28A3B#32
  | 69 => 0xB5B0E6EF#32
  | 70 => 0x35A19018#32
  | 71 => 0xB5942572#32
  | 72 => 0x3588594C#32
  | 73 => 0xB57BD8F1#32
  | 74 => 0x35695670#32
  | 75 => 0xB558D5BB#32
  | 76 => 0x354A0FF9#32
  | 77 => 0xB53CCA00#32
  | 78 => 0x3530D21D#32
  | 79 => 0xB525FE56#32
  | 80 => 0x351C2B08#32
  | 81 => 0xB51339CD#32
  | 82 => 0x350B1097#32
  | 83 => 0xB50398F7#32
  | 84 => 0x34F97F13#32
  | 85 => 0xB4ECE6F7#32
  | 86 => 0x34E14C49#32
  | 87 => 0xB4D69568#32
  | 88 => 0x34CCABDA#32
  | 89 => 0xB4C37BD6#32
  | 90 => 0x34BAF3E5#32
  | 91 => 0xB4B30492#32
  | 92 => 0x34ABA023#32
  | 93 => 0xB4A4BA5F#32
  | 94 => 0x349E485F#32
  | 95 => 0xB4984061#32
  | 96 => 0x349299A5#32
  | 97 => 0xB48D4C4D#32
  | 98 => 0x34885143#32
  | 99 => 0xB483A221#32
  | 100 => 0x347E723F#32
  | 101 => 0xB4762200#32
  | 102 => 0x346E49FF#32
  | 103 => 0xB466E193#32
  | 104 => 0x345FE0DA#32
  | 105 => 0xB45940A1#32
  | 106 => 0x3452FA51#32
  | 107 => 0xB44D07E6#32
  | 108 => 0x344763DA#32
  | 109 => 0xB4420919#32
  | 110 => 0x343CF2FA#32
  | 111 => 0xB4381D32#32
  | 112 => 0x343383CC#32
  | 113 => 0xB42F2322#32
  | 114 => 0x342AF7D2#32
  | 115 => 0xB426FEBD#32
  | 116 => 0x342334FF#32
  | 117 => 0xB41F97EA#32
  | 118 => 0x341C2500#32
  | 119 => 0xB418D9F0#32
  | 120 => 0x3415B495#32
  | 121 => 0xB412B2ED#32
  | 122 => 0x340FD31A#32
  | 123 => 0xB40D1360#32
  | 124 => 0x340A721F#32
  | 125 => 0xB407EDD1#32
  | 126 => 0x3405850C#32
  | 127 => 0xB403367C#32
  | _ => 0#32

noncomputable abbrev lit0t0_99 (i : Nat) : BitVec 32 := match i % 128 with
  | 0 => 0x340100E3#32
  | 1 => 0xB3FDC62E#32
  | 2 => 0x33F9B800#32
  | 3 => 0xB3F5D532#32
  | 4 => 0x33F21BD6#32
  | 5 => 0xB3EE8A1F#32
  | 6 => 0x33EB1E5A#32
  | 7 => 0xB3E7D6EF#32
  | 8 => 0x33E4B25D#32
  | 9 => 0xB3E1AF3D#32
  | 10 => 0x33DECC38#32
  | 11 => 0xB3DC0810#32
  | 12 => 0x33D96196#32
  | 13 => 0xB3D6D7AE#32
  | 14 => 0x33D4694B#32
  | 15 => 0xB3D21572#32
  | 16 => 0x33CFDB34#32
  | 17 => 0xB3CDB9B1#32
  | 18 => 0x33CBB015#32
  | 19 => 0xB3C9BD97#32
  | 20 => 0x33C7E17D#32
  | 21 => 0xB3C61B15#32
  | 22 => 0x33C469B8#32
  | 23 => 0xB3C2CCC7#32
  | 24 => 0x33C143B0#32
  | 25 => 0xB3BFCDE6#32
  | 26 => 0x33BE6AE7#32
  | 27 => 0xB3BD1A36#32
  | 28 => 0x33BBDB61#32
  | 29 => 0xB3BAADFB#32
  | 30 => 0x33B9919E#32
  | 31 => 0xB3B885EC#32
  | 32 => 0x33B78A8A#32
  | 33 => 0xB3B69F28#32
  | 34 => 0x33B5C377#32
  | 35 => 0xB3B4F732#32
  | 36 => 0x33B43A15#32
  | 37 => 0xB3B38BE5#32
  | 38 => 0x33B2EC6A#32
  | 39 => 0xB3B25B72#32
  | 40 => 0x33B1D8CF#32
  | 41 => 0xB3B16459#32
  | 42 => 0x33B0FDEA#32
  | 43 => 0xB3B0A563#32
  | 44 => 0x33B05AA9#32
  | 45 => 0xB3B01DA5#32
  | 46 => 0x33AFEE43#32
  | 47 => 0xB3AFCC75#32
  | 48 => 0x33AFB831#32
  | 49 => 0xB3AFB170#32
  | 50 => 0x33AFB831#32
  | 51 => 0xB3AFCC75#32
  | 52 => 0x33AFEE43#32
  | 53 => 0xB3B01DA5#32
  | 54 => 0x33B05AA9#32
  | 55 => 0xB3B0A563#32
  | 56 => 0x33B0FDEA#32
  | 57 => 0xB3B16459#32
  | 58 => 0x33B1D8CF#32
  | 59 => 0xB3B25B72#32
  | 60 => 0x33B2EC6A#32
  | 61 => 0xB3B38BE5#32
  | 62 => 0x33B43A15#32
  | 63 => 0xB3B4F732#32
  | 64 => 0x33B5C377#32
  | 65 => 0xB3B69F28#32
  | 66 => 0x33B78A8A#32
  | 67 => 0xB3B885EC#32
  | 68 => 0x33B9919E#32
  | 69 => 0xB3BAADFB#32
  | 70 => 0x33BBDB61#32
  | 71 => 0xB3BD1A36#32
  | 72 => 0x33BE6AE7#32
  | 73 => 0xB3BFCDE6#32
  | 74 => 0x33C143B0#32
  | 75 => 0xB3C2CCC7#32
  | 76 => 0x33C469B8#32
  | 77 => 0xB3C61B15#32
  | 78 => 0x33C7E17D#32
  | 79 => 0xB3C9BD97#32
  | 80 => 0x33CBB015#32
  | 81 => 0xB3CDB9B1#32
  | 82 => 0x33CFDB34#32
  | 83 => 0xB3D21572#32
  | 84 => 0x33D4694B#32
  | 85 => 0xB3D6D7AE#32
  | 86 => 0x33D96196#32
  | 87 => 0xB3DC0810#32
  | 88 => 0x33DECC38#32
  | 89 => 0xB3E1AF3D#32
  | 90 => 0x33E4B25D#32
  | 91 => 0xB3E7D6EF#32
  | 92 => 0x33EB1E5A#32
  | 93 => 0xB3EE8A1F#32
  | 94 => 0x33F21BD6#32
  | 95 => 0xB3F5D532#32
  | 96 => 0x33F9B800#32
  | 97 => 0xB3FDC62E#32
  | 98 => 0x340100E3#32
  | 99 => 0xB403367C#32
  | 100 => 0x3405850C#32
  | 101 => 0xB407EDD1#32
  | 102 => 0x340A721F#32
  | 103 => 0xB40D1360#32
  | 104 => 0x340FD31A#32
  | 105 => 0xB412B2ED#32
  | 106 => 0x3415B495#32
  | 107 => 0xB418D9F0#32
  | 108 => 0x341C2500#32
  | 109 => 0xB41F97EA#32
  | 110 => 0x342334FF#32
  | 111 => 0xB426FEBD#32
  | 112 => 0x342AF7D2#32
  | 113 => 0xB42F2322#32
  | 114 => 0x343383CC#32
  | 115 => 0xB4381D32#32
  | 116 => 0x343CF2FA#32
  | 117 => 0xB4420919#32
  | 118 => 0x344763DA#32
  | 119 => 0xB44D07E6#32
  | 120 => 0x3452FA51#32
  | 121 => 0xB45940A1#32
  | 122 => 0x345FE0DA#32
  | 123 => 0xB466E193#32
  | 124 => 0x346E49FF#32
  | 125 => 0xB4762200#32
  | 126 => 0x347E723F#32
  | 127 => 0xB483A221#32
  | _ => 0#32

noncomputable abbrev lit0t0_100 (i : Nat) : BitVec 32 := match i % 128 with
  | 0 => 0xB483A221#32
  | 1 => 0x34885143#32
  | 2 => 0xB48D4C4D#32
  | 3 => 0x349299A5#32
  | 4 => 0xB4984061#32
  | 5 => 0x349E485F#32
  | 6 => 0xB4A4BA5F#32
  | 7 => 0x34ABA023#32
  | 8 => 0xB4B30492#32
  | 9 => 0x34BAF3E5#32
  | 10 => 0xB4C37BD6#32
  | 11 => 0x34CCABDA#32
  | 12 => 0xB4D69568#32
  | 13 => 0x34E14C49#32
  | 14 => 0xB4ECE6F7#32
  | 15 => 0x34F97F13#32
  | 16 => 0xB50398F7#32
  | 17 => 0x350B1097#32
  | 18 => 0xB51339CD#32
  | 19 => 0x351C2B08#32
  | 20 => 0xB525FE56#32
  | 21 => 0x3530D21D#32
  | 22 => 0xB53CCA00#32
  | 23 => 0x354A0FF9#32
  | 24 => 0xB558D5BB#32
  | 25 => 0x35695670#32
  | 26 => 0xB57BD8F1#32
  | 27 => 0x3588594C#32
  | 28 => 0xB5942572#32
  | 29 => 0x35A19018#32
  | 30 => 0xB5B0E6EF#32
  | 31 => 0x35C28A3B#32
  | 32 => 0xB5D6F23A#32
  | 33 => 0x35EEB658#32
  | 34 => 0xB6054B76#32
  | 35 => 0x3615C529#32
  | 36 => 0xB6296767#32
  | 37 => 0x3641014B#32
  | 38 => 0xB65DA20C#32
  | 39 => 0x368056F2#32
  | 40 => 0xB695FBC4#32
  | 41 => 0x36B0ED61#32
  | 42 => 0xB6D29E9B#32
  | 43 => 0x36FFBDB2#32
  | 44 => 0xB692EE32#32
  | 45 => 0x391EBB1A#32
  | 46 => 0x3B12D0DF#32
  | 47 => 0x3CA0086D#32
  | 48 => 0x3DBAD58B#32
  | 49 => 0x3E6BB748#32
  | 50 => 0x3EA069FE#32
  | 51 => 0x3E6BB748#32
  | 52 => 0x3DBAD58B#32
  | 53 => 0x3CA0086D#32
  | 54 => 0x3B12D0DF#32
  | 55 => 0x391EBB1A#32
  | 56 => 0xB692EE32#32
  | 57 => 0x36FFBDB2#32
  | 58 => 0xB6D29E9B#32
  | 59 => 0x36B0ED61#32
  | 60 => 0xB695FBC4#32
  | 61 => 0x368056F2#32
  | 62 => 0xB65DA20C#32
  | 63 => 0x3641014B#32
  | 64 => 0xB6296767#32
  | 65 => 0x3615C529#32
  | 66 => 0xB6054B76#32
  | 67 => 0x35EEB658#32
  | 68 => 0xB5D6F23A#32
  | 69 => 0x35C28A3B#32
  | 70 => 0xB5B0E6EF#32
  | 71 => 0x35A19018#32
  | 72 => 0xB5942572#32
  | 73 => 0x3588594C#32
  | 74 => 0xB57BD8F1#32
  | 75 => 0x35695670#32
  | 76 => 0xB558D5BB#32
  | 77 => 0x354A0FF9#32
  | 78 => 0xB53CCA00#32
  | 79 => 0x3530D21D#32
  | 80 => 0xB525FE56#32
  | 81 => 0x351C2B08#32
  | 82 => 0xB51339CD#32
  | 83 => 0x350B1097#32
  | 84 => 0xB50398F7#32
  | 85 => 0x34F97F13#32
  | 86 => 0xB4ECE6F7#32
  | 87 => 0x34E14C49#32
  | 88 => 0xB4D69568#32
  | 89 => 0x34CCABDA#32
  | 90 => 0xB4C37BD6#32
  | 91 => 0x34BAF3E5#32
  | 92 => 0xB4B30492#32
  | 93 => 0x34ABA023#32
  | 94 => 0xB4A4BA5F#32
  | 95 => 0x349E485F#32
  | 96 => 0xB4984061#32
  | 97 => 0x349299A5#32
  | 98 => 0xB48D4C4D#32
  | 99 => 0x34885143#32
  | 100 => 0xB483A221#32
  | 101 => 0x347E723F#32
  | 102 => 0xB4762200#32
  | 103 => 0x346E49FF#32
  | 104 => 0xB466E193#32
  | 105 => 0x345FE0DA#32
  | 106 => 0xB45940A1#32
  | 107 => 0x3452FA51#32
  | 108 => 0xB44D07E6#32
  | 109 => 0x344763DA#32
  | 110 => 0xB4420919#32
  | 111 => 0x343CF2FA#32
  | 112 => 0xB4381D32#32
  | 113 => 0x343383CC#32
  | 114 => 0xB42F2322#32
  | 115 => 0x342AF7D2#32
  | 116 => 0xB426FEBD#32
  | 117 => 0x342334FF#32
  | 118 => 0xB41F97EA#32
  | 119 => 0x341C2500#32
  | 120 => 0xB418D9F0#32
  | 121 => 0x3415B495#32
  | 122 => 0xB412B2ED#32
  | 123 => 0x340FD31A#32
  | 124 => 0xB40D1360#32
  | 125 => 0x340A721F#32
  | 126 => 0xB407EDD1#32
  | 127 => 0x3405850C#32
  | _ => 0#32

noncomputable abbrev lit0t0_101 (i : Nat) : BitVec 32 := match i % 128 with
  | 0 => 0xB403367C#32
  | 1 => 0x340100E3#32
  | 2 => 0xB3FDC62E#32
  | 3 => 0x33F9B800#32
  | 4 => 0xB3F5D532#32
  | 5 => 0x33F21BD6#32
  | 6 => 0xB3EE8A1F#32
  | 7 => 0x33EB1E5A#32
  | 8 => 0xB3E7D6EF#32
  | 9 => 0x33E4B25D#32
  | 10 => 0xB3E1AF3D#32
  | 11 => 0x33DECC38#32
  | 12 => 0xB3DC0810#32
  | 13 => 0x33D96196#32
  | 14 => 0xB3D6D7AE#32
  | 15 => 0x33D4694B#32
  | 16 => 0xB3D21572#32
  | 17 => 0x33CFDB34#32
  | 18 => 0xB3CDB9B1#32
  | 19 => 0x33CBB015#32
  | 20 => 0xB3C9BD97#32
  | 21 => 0x33C7E17D#32
  | 22 => 0xB3C61B15#32
  | 23 => 0x33C469B8#32
  | 24 => 0xB3C2CCC7#32
  | 25 => 0x33C143B0#32
  | 26 => 0xB3BFCDE6#32
  | 27 => 0x33BE6AE7#32
  | 28 => 0xB3BD1A36#32
  | 29 => 0x33BBDB61#32
  | 30 => 0xB3BAADFB#32
  | 31 => 0x33B9919E#32
  | 32 => 0xB3B885EC#32
  | 33 => 0x33B78A8A#32
  | 34 => 0xB3B69F28#32
  | 35 => 0x33B5C377#32
  | 36 => 0xB3B4F732#32
  | 37 => 0x33B43A15#32
  | 38 => 0xB3B38BE5#32
  | 39 => 0x33B2EC6A#32
  | 40 => 0xB3B25B72#32
  | 41 => 0x33B1D8CF#32
  | 42 => 0xB3B16459#32
  | 43 => 0x33B0FDEA#32
  | 44 => 0xB3B0A563#32
  | 45 => 0x33B05AA9#32
  | 46 => 0xB3B01DA5#32
  | 47 => 0x33AFEE43#32
  | 48 => 0xB3AFCC75#32
  | 49 => 0x33AFB831#32
  | 50 => 0xB3AFB170#32
  | 51 => 0x33AFB831#32
  | 52 => 0xB3AFCC75#32
  | 53 => 0x33AFEE43#32
  | 54 => 0xB3B01DA5#32
  | 55 => 0x33B05AA9#32
  | 56 => 0xB3B0A563#32
  | 57 => 0x33B0FDEA#32
  | 58 => 0xB3B16459#32
  | 59 => 0x33B1D8CF#32
  | 60 => 0xB3B25B72#32
  | 61 => 0x33B2EC6A#32
  | 62 => 0xB3B38BE5#32
  | 63 => 0x33B43A15#32
  | 64 => 0xB3B4F732#32
  | 65 => 0x33B5C377#32
  | 66 => 0xB3B69F28#32
  | 67 => 0x33B78A8A#32
  | 68 => 0xB3B885EC#32
  | 69 => 0x33B9919E#32
  | 70 => 0xB3BAADFB#32
  | 71 => 0x33BBDB61#32
  | 72 => 0xB3BD1A36#32
  | 73 => 0x33BE6AE7#32
  | 74 => 0xB3BFCDE6#32
  | 75 => 0x33C143B0#32
  | 76 => 0xB3C2CCC7#32
  | 77 => 0x33C469B8#32
  | 78 => 0xB3C61B15#32
  | 79 => 0x33C7E17D#32
  | 80 => 0xB3C9BD97#32
  | 81 => 0x33CBB015#32
  | 82 => 0xB3CDB9B1#32
  | 83 => 0x33CFDB34#32
  | 84 => 0xB3D21572#32
  | 85 => 0x33D4694B#32
  | 86 => 0xB3D6D7AE#32
  | 87 => 0x33D96196#32
  | 88 => 0xB3DC0810#32
  | 89 => 0x33DECC38#32
  | 90 => 0xB3E1AF3D#32
  | 91 => 0x33E4B25D#32
  | 92 => 0xB3E7D6EF#32
  | 93 => 0x33EB1E5A#32
  | 94 => 0xB3EE8A1F#32
  | 95 => 0x33F21BD6#32
  | 96 => 0xB3F5D532#32
  | 97 => 0x33F9B800#32
  | 98 => 0xB3FDC62E#32
  | 99 => 0x340100E3#32
  | 100 => 0xB403367C#32
  | 101 => 0x3405850C#32
  | 102 => 0xB407EDD1#32
  | 103 => 0x340A721F#32
  | 104 => 0xB40D1360#32
  | 105 => 0x340FD31A#32
  | 106 => 0xB412B2ED#32
  | 107 => 0x3415B495#32
  | 108 => 0xB418D9F0#32
  | 109 => 0x341C2500#32
  | 110 => 0xB41F97EA#32
  | 111 => 0x342334FF#32
  | 112 => 0xB426FEBD#32
  | 113 => 0x342AF7D2#32
  | 114 => 0xB42F2322#32
  | 115 => 0x343383CC#32
  | 116 => 0xB4381D32#32
  | 117 => 0x343CF2FA#32
  | 118 => 0xB4420919#32
  | 119 => 0x344763DA#32
  | 120 => 0xB44D07E6#32
  | 121 => 0x3452FA51#32
  | 122 => 0xB45940A1#32
  | 123 => 0x345FE0DA#32
  | 124 => 0xB466E193#32
  | 125 => 0x346E49FF#32
  | 126 => 0xB4762200#32
  | 127 => 0x347E723F#32
  | _ => 0#32

noncomputable abbrev lit0t0_102 (i : Nat) : BitVec 32 := match i % 128 with
  | 0 => 0x347E723F#32
  | 1 => 0xB483A221#32
  | 2 => 0x34885143#32
  | 3 => 0xB48D4C4D#32
  | 4 => 0x349299A5#32
  | 5 => 0xB4984061#32
  | 6 => 0x349E485F#32
  | 7 => 0xB4A4BA5F#32
  | 8 => 0x34ABA023#32
  | 9 => 0xB4B30492#32
  | 10 => 0x34BAF3E5#32
  | 11 => 0xB4C37BD6#32
  | 12 => 0x34CCABDA#32
  | 13 => 0xB4D69568#32
  | 14 => 0x34E14C49#32
  | 15 => 0xB4ECE6F7#32
  | 16 => 0x34F97F13#32
  | 17 => 0xB50398F7#32
  | 18 => 0x350B1097#32
  | 19 => 0xB51339CD#32
  | 20 => 0x351C2B08#32
  | 21 => 0xB525FE56#32
  | 22 => 0x3530D21D#32
  | 23 => 0xB53CCA00#32
  | 24 => 0x354A0FF9#32
  | 25 => 0xB558D5BB#32
  | 26 => 0x35695670#32
  | 27 => 0xB57BD8F1#32
  | 28 => 0x3588594C#32
  | 29 => 0xB5942572#32
  | 30 => 0x35A19018#32
  | 31 => 0xB5B0E6EF#32
  | 32 => 0x35C28A3B#32
  | 33 => 0xB5D6F23A#32
  | 34 => 0x35EEB658#32
  | 35 => 0xB6054B76#32
  | 36 => 0x3615C529#32
  | 37 => 0xB6296767#32
  | 38 => 0x3641014B#32
  | 39 => 0xB65DA20C#32
  | 40 => 0x368056F2#32
  | 41 => 0xB695FBC4#32
  | 42 => 0x36B0ED61#32
  | 43 => 0xB6D29E9B#32
  | 44 => 0x36FFBDB2#32
  | 45 => 0xB692EE32#32
  | 46 => 0x391EBB1A#32
  | 47 => 0x3B12D0DF#32
  | 48 => 0x3CA0086D#32
  | 49 => 0x3DBAD58B#32
  | 50 => 0x3E6BB748#32
  | 51 => 0x3EA069FE#32
  | 52 => 0x3E6BB748#32
  | 53 => 0x3DBAD58B#32
  | 54 => 0x3CA0086D#32
  | 55 => 0x3B12D0DF#32
  | 56 => 0x391EBB1A#32
  | 57 => 0xB692EE32#32
  | 58 => 0x36FFBDB2#32
  | 59 => 0xB6D29E9B#32
  | 60 => 0x36B0ED61#32
  | 61 => 0xB695FBC4#32
  | 62 => 0x368056F2#32
  | 63 => 0xB65DA20C#32
  | 64 => 0x3641014B#32
  | 65 => 0xB6296767#32
  | 66 => 0x3615C529#32
  | 67 => 0xB6054B76#32
  | 68 => 0x35EEB658#32
  | 69 => 0xB5D6F23A#32
  | 70 => 0x35C28A3B#32
  | 71 => 0xB5B0E6EF#32
  | 72 => 0x35A19018#32
  | 73 => 0xB5942572#32
  | 74 => 0x3588594C#32
  | 75 => 0xB57BD8F1#32
  | 76 => 0x35695670#32
  | 77 => 0xB558D5BB#32
  | 78 => 0x354A0FF9#32
  | 79 => 0xB53CCA00#32
  | 80 => 0x3530D21D#32
  | 81 => 0xB525FE56#32
  | 82 => 0x351C2B08#32
  | 83 => 0xB51339CD#32
  | 84 => 0x350B1097#32
  | 85 => 0xB50398F7#32
  | 86 => 0x34F97F13#32
  | 87 => 0xB4ECE6F7#32
  | 88 => 0x34E14C49#32
  | 89 => 0xB4D69568#32
  | 90 => 0x34CCABDA#32
  | 91 => 0xB4C37BD6#32
  | 92 => 0x34BAF3E5#32
  | 93 => 0xB4B30492#32
  | 94 => 0x34ABA023#32
  | 95 => 0xB4A4BA5F#32
  | 96 => 0x349E485F#32
  | 97 => 0xB4984061#32
  | 98 => 0x349299A5#32
  | 99 => 0xB48D4C4D#32
  | 100 => 0x34885143#32
  | 101 => 0xB483A221#32
  | 102 => 0x347E723F#32
  | 103 => 0xB4762200#32
  | 104 => 0x346E49FF#32
  | 105 => 0xB466E193#32
  | 106 => 0x345FE0DA#32
  | 107 => 0xB45940A1#32
  | 108 => 0x3452FA51#32
  | 109 => 0xB44D07E6#32
  | 110 => 0x344763DA#32
  | 111 => 0xB4420919#32
  | 112 => 0x343CF2FA#32
  | 113 => 0xB4381D32#32
  | 114 => 0x343383CC#32
  | 115 => 0xB42F2322#32
  | 116 => 0x342AF7D2#32
  | 117 => 0xB426FEBD#32
  | 118 => 0x342334FF#32
  | 119 => 0xB41F97EA#32
  | 120 => 0x341C2500#32
  | 121 => 0xB418D9F0#32
  | 122 => 0x3415B495#32
  | 123 => 0xB412B2ED#32
  | 124 => 0x340FD31A#32
  | 125 => 0xB40D1360#32
  | 126 => 0x340A721F#32
  | 127 => 0xB407EDD1#32
  | _ => 0#32

noncomputable abbrev lit0t0_103 (i : Nat) : BitVec 32 := match i % 128 with
  | 0 => 0x3405850C#32
  | 1 => 0xB403367C#32
  | 2 => 0x340100E3#32
  | 3 => 0xB3FDC62E#32
  | 4 => 0x33F9B800#32
  | 5 => 0xB3F5D532#32
  | 6 => 0x33F21BD6#32
  | 7 => 0xB3EE8A1F#32
  | 8 => 0x33EB1E5A#32
  | 9 => 0xB3E7D6EF#32
  | 10 => 0x33E4B25D#32
  | 11 => 0xB3E1AF3D#32
  | 12 => 0x33DECC38#32
  | 13 => 0xB3DC0810#32
  | 14 => 0x33D96196#32
  | 15 => 0xB3D6D7AE#32
  | 16 => 0x33D4694B#32
  | 17 => 0xB3D21572#32
  | 18 => 0x33CFDB34#32
  | 19 => 0xB3CDB9B1#32
  | 20 => 0x33CBB015#32
  | 21 => 0xB3C9BD97#32
  | 22 => 0x33C7E17D#32
  | 23 => 0xB3C61B15#32
  | 24 => 0x33C469B8#32
  | 25 => 0xB3C2CCC7#32
  | 26 => 0x33C143B0#32
  | 27 => 0xB3BFCDE6#32
  | 28 => 0x33BE6AE7#32
  | 29 => 0xB3BD1A36#32
  | 30 => 0x33BBDB61#32
  | 31 => 0xB3BAADFB#32
  | 32 => 0x33B9919E#32
  | 33 => 0xB3B885EC#32
  | 34 => 0x33B78A8A#32
  | 35 => 0xB3B69F28#32
  | 36 => 0x33B5C377#32
  | 37 => 0xB3B4F732#32
  | 38 => 0x33B43A15#32
  | 39 => 0xB3B38BE5#32
  | 40 => 0x33B2EC6A#32
  | 41 => 0xB3B25B72#32
  | 42 => 0x33B1D8CF#32
  | 43 => 0xB3B16459#32
  | 44 => 0x33B0FDEA#32
  | 45 => 0xB3B0A563#32
  | 46 => 0x33B05AA9#32
  | 47 => 0xB3B01DA5#32
  | 48 => 0x33AFEE43#32
  | 49 => 0xB3AFCC75#32
  | 50 => 0x33AFB831#32
  | 51 => 0xB3AFB170#32
  | 52 => 0x33AFB831#32
  | 53 => 0xB3AFCC75#32
  | 54 => 0x33AFEE43#32
  | 55 => 0xB3B01DA5#32
  | 56 => 0x33B05AA9#32
  | 57 => 0xB3B0A563#32
  | 58 => 0x33B0FDEA#32
  | 59 => 0xB3B16459#32
  | 60 => 0x33B1D8CF#32
  | 61 => 0xB3B25B72#32
  | 62 => 0x33B2EC6A#32
  | 63 => 0xB3B38BE5#32
  | 64 => 0x33B43A15#32
  | 65 => 0xB3B4F732#32
  | 66 => 0x33B5C377#32
  | 67 => 0xB3B69F28#32
  | 68 => 0x33B78A8A#32
  | 69 => 0xB3B885EC#32
  | 70 => 0x33B9919E#32
  | 71 => 0xB3BAADFB#32
  | 72 => 0x33BBDB61#32
  | 73 => 0xB3BD1A36#32
  | 74 => 0x33BE6AE7#32
  | 75 => 0xB3BFCDE6#32
  | 76 => 0x33C143B0#32
  | 77 => 0xB3C2CCC7#32
  | 78 => 0x33C469B8#32
  | 79 => 0xB3C61B15#32
  | 80 => 0x33C7E17D#32
  | 81 => 0xB3C9BD97#32
  | 82 => 0x33CBB015#32
  | 83 => 0xB3CDB9B1#32
  | 84 => 0x33CFDB34#32
  | 85 => 0xB3D21572#32
  | 86 => 0x33D4694B#32
  | 87 => 0xB3D6D7AE#32
  | 88 => 0x33D96196#32
  | 89 => 0xB3DC0810#32
  | 90 => 0x33DECC38#32
  | 91 => 0xB3E1AF3D#32
  | 92 => 0x33E4B25D#32
  | 93 => 0xB3E7D6EF#32
  | 94 => 0x33EB1E5A#32
  | 95 => 0xB3EE8A1F#32
  | 96 => 0x33F21BD6#32
  | 97 => 0xB3F5D532#32
  | 98 => 0x33F9B800#32
  | 99 => 0xB3FDC62E#32
  | 100 => 0x340100E3#32
  | 101 => 0xB403367C#32
  | 102 => 0x3405850C#32
  | 103 => 0xB407EDD1#32
  | 104 => 0x340A721F#32
  | 105 => 0xB40D1360#32
  | 106 => 0x340FD31A#32
  | 107 => 0xB412B2ED#32
  | 108 => 0x3415B495#32
  | 109 => 0xB418D9F0#32
  | 110 => 0x341C2500#32
  | 111 => 0xB41F97EA#32
  | 112 => 0x342334FF#32
  | 113 => 0xB426FEBD#32
  | 114 => 0x342AF7D2#32
  | 115 => 0xB42F2322#32
  | 116 => 0x343383CC#32
  | 117 => 0xB4381D32#32
  | 118 => 0x343CF2FA#32
  | 119 => 0xB4420919#32
  | 120 => 0x344763DA#32
  | 121 => 0xB44D07E6#32
  | 122 => 0x3452FA51#32
  | 123 => 0xB45940A1#32
  | 124 => 0x345FE0DA#32
  | 125 => 0xB466E193#32
  | 126 => 0x346E49FF#32
  | 127 => 0xB4762200#32
  | _ => 0#32

noncomputable abbrev lit0t0_104 (i : Nat) : BitVec 32 := match i % 128 with
  | 0 => 0xB4762200#32
  | 1 => 0x347E723F#32
  | 2 => 0xB483A221#32
  | 3 => 0x34885143#32
  | 4 => 0xB48D4C4D#32
  | 5 => 0x349299A5#32
  | 6 => 0xB4984061#32
  | 7 => 0x349E485F#32
  | 8 => 0xB4A4BA5F#32
  | 9 => 0x34ABA023#32
  | 10 => 0xB4B30492#32
  | 11 => 0x34BAF3E5#32
  | 12 => 0xB4C37BD6#32
  | 13 => 0x34CCABDA#32
  | 14 => 0xB4D69568#32
  | 15 => 0x34E14C49#32
  | 16 => 0xB4ECE6F7#32
  | 17 => 0x34F97F13#32
  | 18 => 0xB50398F7#32
  | 19 => 0x350B1097#32
  | 20 => 0xB51339CD#32
  | 21 => 0x351C2B08#32
  | 22 => 0xB525FE56#32
  | 23 => 0x3530D21D#32
  | 24 => 0xB53CCA00#32
  | 25 => 0x354A0FF9#32
  | 26 => 0xB558D5BB#32
  | 27 => 0x35695670#32
  | 28 => 0xB57BD8F1#32
  | 29 => 0x3588594C#32
  | 30 => 0xB5942572#32
  | 31 => 0x35A19018#32
  | 32 => 0xB5B0E6EF#32
  | 33 => 0x35C28A3B#32
  | 34 => 0xB5D6F23A#32
  | 35 => 0x35EEB658#32
  | 36 => 0xB6054B76#32
  | 37 => 0x3615C529#32
  | 38 => 0xB6296767#32
  | 39 => 0x3641014B#32
  | 40 => 0xB65DA20C#32
  | 41 => 0x368056F2#32
  | 42 => 0xB695FBC4#32
  | 43 => 0x36B0ED61#32
  | 44 => 0xB6D29E9B#32
  | 45 => 0x36FFBDB2#32
  | 46 => 0xB692EE32#32
  | 47 => 0x391EBB1A#32
  | 48 => 0x3B12D0DF#32
  | 49 => 0x3CA0086D#32
  | 50 => 0x3DBAD58B#32
  | 51 => 0x3E6BB748#32
  | 52 => 0x3EA069FE#32
  | 53 => 0x3E6BB748#32
  | 54 => 0x3DBAD58B#32
  | 55 => 0x3CA0086D#32
  | 56 => 0x3B12D0DF#32
  | 57 => 0x391EBB1A#32
  | 58 => 0xB692EE32#32
  | 59 => 0x36FFBDB2#32
  | 60 => 0xB6D29E9B#32
  | 61 => 0x36B0ED61#32
  | 62 => 0xB695FBC4#32
  | 63 => 0x368056F2#32
  | 64 => 0xB65DA20C#32
  | 65 => 0x3641014B#32
  | 66 => 0xB6296767#32
  | 67 => 0x3615C529#32
  | 68 => 0xB6054B76#32
  | 69 => 0x35EEB658#32
  | 70 => 0xB5D6F23A#32
  | 71 => 0x35C28A3B#32
  | 72 => 0xB5B0E6EF#32
  | 73 => 0x35A19018#32
  | 74 => 0xB5942572#32
  | 75 => 0x3588594C#32
  | 76 => 0xB57BD8F1#32
  | 77 => 0x35695670#32
  | 78 => 0xB558D5BB#32
  | 79 => 0x354A0FF9#32
  | 80 => 0xB53CCA00#32
  | 81 => 0x3530D21D#32
  | 82 => 0xB525FE56#32
  | 83 => 0x351C2B08#32
  | 84 => 0xB51339CD#32
  | 85 => 0x350B1097#32
  | 86 => 0xB50398F7#32
  | 87 => 0x34F97F13#32
  | 88 => 0xB4ECE6F7#32
  | 89 => 0x34E14C49#32
  | 90 => 0xB4D69568#32
  | 91 => 0x34CCABDA#32
  | 92 => 0xB4C37BD6#32
  | 93 => 0x34BAF3E5#32
  | 94 => 0xB4B30492#32
  | 95 => 0x34ABA023#32
  | 96 => 0xB4A4BA5F#32
  | 97 => 0x349E485F#32
  | 98 => 0xB4984061#32
  | 99 => 0x349299A5#32
  | 100 => 0xB48D4C4D#32
  | 101 => 0x34885143#32
  | 102 => 0xB483A221#32
  | 103 => 0x347E723F#32
  | 104 => 0xB4762200#32
  | 105 => 0x346E49FF#32
  | 106 => 0xB466E193#32
  | 107 => 0x345FE0DA#32
  | 108 => 0xB45940A1#32
  | 109 => 0x3452FA51#32
  | 110 => 0xB44D07E6#32
  | 111 => 0x344763DA#32
  | 112 => 0xB4420919#32
  | 113 => 0x343CF2FA#32
  | 114 => 0xB4381D32#32
  | 115 => 0x343383CC#32
  | 116 => 0xB42F2322#32
  | 117 => 0x342AF7D2#32
  | 118 => 0xB426FEBD#32
  | 119 => 0x342334FF#32
  | 120 => 0xB41F97EA#32
  | 121 => 0x341C2500#32
  | 122 => 0xB418D9F0#32
  | 123 => 0x3415B495#32
  | 124 => 0xB412B2ED#32
  | 125 => 0x340FD31A#32
  | 126 => 0xB40D1360#32
  | 127 => 0x340A721F#32
  | _ => 0#32

noncomputable abbrev lit0t0_105 (i : Nat) : BitVec 32 := match i % 128 with
  | 0 => 0xB407EDD1#32
  | 1 => 0x3405850C#32
  | 2 => 0xB403367C#32
  | 3 => 0x340100E3#32
  | 4 => 0xB3FDC62E#32
  | 5 => 0x33F9B800#32
  | 6 => 0xB3F5D532#32
  | 7 => 0x33F21BD6#32
  | 8 => 0xB3EE8A1F#32
  | 9 => 0x33EB1E5A#32
  | 10 => 0xB3E7D6EF#32
  | 11 => 0x33E4B25D#32
  | 12 => 0xB3E1AF3D#32
  | 13 => 0x33DECC38#32
  | 14 => 0xB3DC0810#32
  | 15 => 0x33D96196#32
  | 16 => 0xB3D6D7AE#32
  | 17 => 0x33D4694B#32
  | 18 => 0xB3D21572#32
  | 19 => 0x33CFDB34#32
  | 20 => 0xB3CDB9B1#32
  | 21 => 0x33CBB015#32
  | 22 => 0xB3C9BD97#32
  | 23 => 0x33C7E17D#32
  | 24 => 0xB3C61B15#32
  | 25 => 0x33C469B8#32
  | 26 => 0xB3C2CCC7#32
  | 27 => 0x33C143B0#32
  | 28 => 0xB3BFCDE6#32
  | 29 => 0x33BE6AE7#32
  | 30 => 0xB3BD1A36#32
  | 31 => 0x33BBDB61#32
  | 32 => 0xB3BAADFB#32
  | 33 => 0x33B9919E#32
  | 34 => 0xB3B885EC#32
  | 35 => 0x33B78A8A#32
  | 36 => 0xB3B69F28#32
  | 37 => 0x33B5C377#32
  | 38 => 0xB3B4F732#32
  | 39 => 0x33B43A15#32
  | 40 => 0xB3B38BE5#32
  | 41 => 0x33B2EC6A#32
  | 42 => 0xB3B25B72#32
  | 43 => 0x33B1D8CF#32
  | 44 => 0xB3B16459#32
  | 45 => 0x33B0FDEA#32
  | 46 => 0xB3B0A563#32
  | 47 => 0x33B05AA9#32
  | 48 => 0xB3B01DA5#32
  | 49 => 0x33AFEE43#32
  | 50 => 0xB3AFCC75#32
  | 51 => 0x33AFB831#32
  | 52 => 0xB3AFB170#32
  | 53 => 0x33AFB831#32
  | 54 => 0xB3AFCC75#32
  | 55 => 0x33AFEE43#32
  | 56 => 0xB3B01DA5#32
  | 57 => 0x33B05AA9#32
  | 58 => 0xB3B0A563#32
  | 59 => 0x33B0FDEA#32
  | 60 => 0xB3B16459#32
  | 61 => 0x33B1D8CF#32
  | 62 => 0xB3B25B72#32
  | 63 => 0x33B2EC6A#32
  | 64 => 0xB3B38BE5#32
  | 65 => 0x33B43A15#32
  | 66 => 0xB3B4F732#32
  | 67 => 0x33B5C377#32
  | 68 => 0xB3B69F28#32
  | 69 => 0x33B78A8A#32
  | 70 => 0xB3B885EC#32
  | 71 => 0x33B9919E#32
  | 72 => 0xB3BAADFB#32
  | 73 => 0x33BBDB61#32
  | 74 => 0xB3BD1A36#32
  | 75 => 0x33BE6AE7#32
  | 76 => 0xB3BFCDE6#32
  | 77 => 0x33C143B0#32
  | 78 => 0xB3C2CCC7#32
  | 79 => 0x33C469B8#32
  | 80 => 0xB3C61B15#32
  | 81 => 0x33C7E17D#32
  | 82 => 0xB3C9BD97#32
  | 83 => 0x33CBB015#32
  | 84 => 0xB3CDB9B1#32
  | 85 => 0x33CFDB34#32
  | 86 => 0xB3D21572#32
  | 87 => 0x33D4694B#32
  | 88 => 0xB3D6D7AE#32
  | 89 => 0x33D96196#32
  | 90 => 0xB3DC0810#32
  | 91 => 0x33DECC38#32
  | 92 => 0xB3E1AF3D#32
  | 93 => 0x33E4B25D#32
  | 94 => 0xB3E7D6EF#32
  | 95 => 0x33EB1E5A#32
  | 96 => 0xB3EE8A1F#32
  | 97 => 0x33F21BD6#32
  | 98 => 0xB3F5D532#32
  | 99 => 0x33F9B800#32
  | 100 => 0xB3FDC62E#32
  | 101 => 0x340100E3#32
  | 102 => 0xB403367C#32
  | 103 => 0x3405850C#32
  | 104 => 0xB407EDD1#32
  | 105 => 0x340A721F#32
  | 106 => 0xB40D1360#32
  | 107 => 0x340FD31A#32
  | 108 => 0xB412B2ED#32
  | 109 => 0x3415B495#32
  | 110 => 0xB418D9F0#32
  | 111 => 0x341C2500#32
  | 112 => 0xB41F97EA#32
  | 113 => 0x342334FF#32
  | 114 => 0xB426FEBD#32
  | 115 => 0x342AF7D2#32
  | 116 => 0xB42F2322#32
  | 117 => 0x343383CC#32
  | 118 => 0xB4381D32#32
  | 119 => 0x343CF2FA#32
  | 120 => 0xB4420919#32
  | 121 => 0x344763DA#32
  | 122 => 0xB44D07E6#32
  | 123 => 0x3452FA51#32
  | 124 => 0xB45940A1#32
  | 125 => 0x345FE0DA#32
  | 126 => 0xB466E193#32
  | 127 => 0x346E49FF#32
  | _ => 0#32

noncomputable abbrev lit0t0_106 (i : Nat) : BitVec 32 := match i % 128 with
  | 0 => 0x346E49FF#32
  | 1 => 0xB4762200#32
  | 2 => 0x347E723F#32
  | 3 => 0xB483A221#32
  | 4 => 0x34885142#32
  | 5 => 0xB48D4C4D#32
  | 6 => 0x349299A5#32
  | 7 => 0xB4984061#32
  | 8 => 0x349E485F#32
  | 9 => 0xB4A4BA5F#32
  | 10 => 0x34ABA023#32
  | 11 => 0xB4B30492#32
  | 12 => 0x34BAF3E5#32
  | 13 => 0xB4C37BD6#32
  | 14 => 0x34CCABDA#32
  | 15 => 0xB4D69568#32
  | 16 => 0x34E14C49#32
  | 17 => 0xB4ECE6F7#32
  | 18 => 0x34F97F13#32
  | 19 => 0xB50398F7#32
  | 20 => 0x350B1097#32
  | 21 => 0xB51339CD#32
  | 22 => 0x351C2B08#32
  | 23 => 0xB525FE56#32
  | 24 => 0x3530D21D#32
  | 25 => 0xB53CCA00#32
  | 26 => 0x354A0FF9#32
  | 27 => 0xB558D5BB#32
  | 28 => 0x35695670#32
  | 29 => 0xB57BD8F1#32
  | 30 => 0x3588594C#32
  | 31 => 0xB5942572#32
  | 32 => 0x35A19018#32
  | 33 => 0xB5B0E6EF#32
  | 34 => 0x35C28A3B#32
  | 35 => 0xB5D6F23A#32
  | 36 => 0x35EEB658#32
  | 37 => 0xB6054B76#32
  | 38 => 0x3615C529#32
  | 39 => 0xB6296767#32
  | 40 => 0x3641014B#32
  | 41 => 0xB65DA20C#32
  | 42 => 0x368056F2#32
  | 43 => 0xB695FBC4#32
  | 44 => 0x36B0ED61#32
  | 45 => 0xB6D29E9B#32
  | 46 => 0x36FFBDB2#32
  | 47 => 0xB692EE32#32
  | 48 => 0x391EBB1A#32
  | 49 => 0x3B12D0DF#32
  | 50 => 0x3CA0086D#32
  | 51 => 0x3DBAD58B#32
  | 52 => 0x3E6BB748#32
  | 53 => 0x3EA069FE#32
  | 54 => 0x3E6BB748#32
  | 55 => 0x3DBAD58B#32
  | 56 => 0x3CA0086D#32
  | 57 => 0x3B12D0DF#32
  | 58 => 0x391EBB1A#32
  | 59 => 0xB692EE32#32
  | 60 => 0x36FFBDB2#32
  | 61 => 0xB6D29E9B#32
  | 62 => 0x36B0ED61#32
  | 63 => 0xB695FBC4#32
  | 64 => 0x368056F2#32
  | 65 => 0xB65DA20C#32
  | 66 => 0x3641014B#32
  | 67 => 0xB6296767#32
  | 68 => 0x3615C529#32
  | 69 => 0xB6054B76#32
  | 70 => 0x35EEB658#32
  | 71 => 0xB5D6F23A#32
  | 72 => 0x35C28A3B#32
  | 73 => 0xB5B0E6EF#32
  | 74 => 0x35A19018#32
  | 75 => 0xB5942572#32
  | 76 => 0x3588594C#32
  | 77 => 0xB57BD8F1#32
  | 78 => 0x35695670#32
  | 79 => 0xB558D5BB#32
  | 80 => 0x354A0FF9#32
  | 81 => 0xB53CCA00#32
  | 82 => 0x3530D21D#32
  | 83 => 0xB525FE56#32
  | 84 => 0x351C2B08#32
  | 85 => 0xB51339CD#32
  | 86 => 0x350B1097#32
  | 87 => 0xB50398F7#32
  | 88 => 0x34F97F13#32
  | 89 => 0xB4ECE6F7#32
  | 90 => 0x34E14C49#32
  | 91 => 0xB4D69568#32
  | 92 => 0x34CCABDA#32
  | 93 => 0xB4C37BD6#32
  | 94 => 0x34BAF3E5#32
  | 95 => 0xB4B30492#32
  | 96 => 0x34ABA023#32
  | 97 => 0xB4A4BA5F#32
  | 98 => 0x349E485F#32
  | 99 => 0xB4984061#32
  | 100 => 0x349299A5#32
  | 101 => 0xB48D4C4D#32
  | 102 => 0x34885143#32
  | 103 => 0xB483A221#32
  | 104 => 0x347E723F#32
  | 105 => 0xB4762200#32
  | 106 => 0x346E49FF#32
  | 107 => 0xB466E193#32
  | 108 => 0x345FE0DA#32
  | 109 => 0xB45940A1#32
  | 110 => 0x3452FA51#32
  | 111 => 0xB44D07E6#32
  | 112 => 0x344763DA#32
  | 113 => 0xB4420919#32
  | 114 => 0x343CF2FA#32
  | 115 => 0xB4381D32#32
  | 116 => 0x343383CC#32
  | 117 => 0xB42F2322#32
  | 118 => 0x342AF7D2#32
  | 119 => 0xB426FEBD#32
  | 120 => 0x342334FF#32
  | 121 => 0xB41F97EA#32
  | 122 => 0x341C2500#32
  | 123 => 0xB418D9F0#32
  | 124 => 0x3415B495#32
  | 125 => 0xB412B2ED#32
  | 126 => 0x340FD31A#32
  | 127 => 0xB40D1360#32
  | _ => 0#32

noncomputable abbrev lit0t0_107 (i : Nat) : BitVec 32 := match i % 128 with
  | 0 => 0x340A721F#32
  | 1 => 0xB407EDD1#32
  | 2 => 0x3405850C#32
  | 3 => 0xB403367C#32
  | 4 => 0x340100E3#32
  | 5 => 0xB3FDC62E#32
  | 6 => 0x33F9B800#32
  | 7 => 0xB3F5D532#32
  | 8 => 0x33F21BD6#32
  | 9 => 0xB3EE8A1F#32
  | 10 => 0x33EB1E5A#32
  | 11 => 0xB3E7D6EF#32
  | 12 => 0x33E4B25D#32
  | 13 => 0xB3E1AF3D#32
  | 14 => 0x33DECC38#32
  | 15 => 0xB3DC0810#32
  | 16 => 0x33D96196#32
  | 17 => 0xB3D6D7AE#32
  | 18 => 0x33D4694B#32
  | 19 => 0xB3D21572#32
  | 20 => 0x33CFDB34#32
  | 21 => 0xB3CDB9B1#32
  | 22 => 0x33CBB015#32
  | 23 => 0xB3C9BD97#32
  | 24 => 0x33C7E17D#32
  | 25 => 0xB3C61B15#32
  | 26 => 0x33C469B8#32
  | 27 => 0xB3C2CCC7#32
  | 28 => 0x33C143B0#32
  | 29 => 0xB3BFCDE6#32
  | 30 => 0x33BE6AE7#32
  | 31 => 0xB3BD1A36#32
  | 32 => 0x33BBDB61#32
  | 33 => 0xB3BAADFB#32
  | 34 => 0x33B9919E#32
  | 35 => 0xB3B885EC#32
  | 36 => 0x33B78A8A#32
  | 37 => 0xB3B69F28#32
  | 38 => 0x33B5C377#32
  | 39 => 0xB3B4F732#32
  | 40 => 0x33B43A15#32
  | 41 => 0xB3B38BE5#32
  | 42 => 0x33B2EC6A#32
  | 43 => 0xB3B25B72#32
  | 44 => 0x33B1D8CF#32
  | 45 => 0xB3B16459#32
  | 46 => 0x33B0FDEA#32
  | 47 => 0xB3B0A563#32
  | 48 => 0x33B05AA9#32
  | 49 => 0xB3B01DA5#32
  | 50 => 0x33AFEE43#32
  | 51 => 0xB3AFCC75#32
  | 52 => 0x33AFB831#32
  | 53 => 0xB3AFB170#32
  | 54 => 0x33AFB831#32
  | 55 => 0xB3AFCC75#32
  | 56 => 0x33AFEE43#32
  | 57 => 0xB3B01DA5#32
  | 58 => 0x33B05AA9#32
  | 59 => 0xB3B0A563#32
  | 60 => 0x33B0FDEA#32
  | 61 => 0xB3B16459#32
  | 62 => 0x33B1D8CF#32
  | 63 => 0xB3B25B72#32
  | 64 => 0x33B2EC6A#32
  | 65 => 0xB3B38BE5#32
  | 66 => 0x33B43A15#32
  | 67 => 0xB3B4F732#32
  | 68 => 0x33B5C377#32
  | 69 => 0xB3B69F28#32
  | 70 => 0x33B78A8A#32
  | 71 => 0xB3B885EC#32
  | 72 => 0x33B9919E#32
  | 73 => 0xB3BAADFB#32
  | 74 => 0x33BBDB61#32
  | 75 => 0xB3BD1A36#32
  | 76 => 0x33BE6AE7#32
  | 77 => 0xB3BFCDE6#32
  | 78 => 0x33C143B0#32
  | 79 => 0xB3C2CCC7#32
  | 80 => 0x33C469B8#32
  | 81 => 0xB3C61B15#32
  | 82 => 0x33C7E17D#32
  | 83 => 0xB3C9BD97#32
  | 84 => 0x33CBB015#32
  | 85 => 0xB3CDB9B1#32
  | 86 => 0x33CFDB34#32
  | 87 => 0xB3D21572#32
  | 88 => 0x33D4694B#32
  | 89 => 0xB3D6D7AE#32
  | 90 => 0x33D96196#32
  | 91 => 0xB3DC0810#32
  | 92 => 0x33DECC38#32
  | 93 => 0xB3E1AF3D#32
  | 94 => 0x33E4B25D#32
  | 95 => 0xB3E7D6EF#32
  | 96 => 0x33EB1E5A#32
  | 97 => 0xB3EE8A1F#32
  | 98 => 0x33F21BD6#32
  | 99 => 0xB3F5D532#32
  | 100 => 0x33F9B800#32
  | 101 => 0xB3FDC62E#32
  | 102 => 0x340100E3#32
  | 103 => 0xB403367C#32
  | 104 => 0x3405850C#32
  | 105 => 0xB407EDD1#32
  | 106 => 0x340A721F#32
  | 107 => 0xB40D1360#32
  | 108 => 0x340FD31A#32
  | 109 => 0xB412B2ED#32
  | 110 => 0x3415B495#32
  | 111 => 0xB418D9F0#32
  | 112 => 0x341C2500#32
  | 113 => 0xB41F97EA#32
  | 114 => 0x342334FF#32
  | 115 => 0xB426FEBD#32
  | 116 => 0x342AF7D2#32
  | 117 => 0xB42F2322#32
  | 118 => 0x343383CC#32
  | 119 => 0xB4381D32#32
  | 120 => 0x343CF2FA#32
  | 121 => 0xB4420919#32
  | 122 => 0x344763DA#32
  | 123 => 0xB44D07E6#32
  | 124 => 0x3452FA51#32
  | 125 => 0xB45940A1#32
  | 126 => 0x345FE0DA#32
  | 127 => 0xB466E193#32
  | _ => 0#32

noncomputable abbrev lit0t0_108 (i : Nat) : BitVec 32 := match i % 128 with
  | 0 => 0xB466E193#32
  | 1 => 0x346E49FF#32
  | 2 => 0xB4762200#32
  | 3 => 0x347E723F#32
  | 4 => 0xB483A221#32
  | 5 => 0x34885143#32
  | 6 => 0xB48D4C4D#32
  | 7 => 0x349299A5#32
  | 8 => 0xB4984061#32
  | 9 => 0x349E485F#32
  | 10 => 0xB4A4BA5F#32
  | 11 => 0x34ABA023#32
  | 12 => 0xB4B30492#32
  | 13 => 0x34BAF3E5#32
  | 14 => 0xB4C37BD6#32
  | 15 => 0x34CCABDA#32
  | 16 => 0xB4D69568#32
  | 17 => 0x34E14C49#32
  | 18 => 0xB4ECE6F7#32
  | 19 => 0x34F97F13#32
  | 20 => 0xB50398F7#32
  | 21 => 0x350B1097#32
  | 22 => 0xB51339CD#32
  | 23 => 0x351C2B08#32
  | 24 => 0xB525FE56#32
  | 25 => 0x3530D21D#32
  | 26 => 0xB53CCA00#32
  | 27 => 0x354A0FF9#32
  | 28 => 0xB558D5BB#32
  | 29 => 0x35695670#32
  | 30 => 0xB57BD8F1#32
  | 31 => 0x3588594C#32
  | 32 => 0xB5942572#32
  | 33 => 0x35A19018#32
  | 34 => 0xB5B0E6EF#32
  | 35 => 0x35C28A3B#32
  | 36 => 0xB5D6F23A#32
  | 37 => 0x35EEB658#32
  | 38 => 0xB6054B76#32
  | 39 => 0x3615C529#32
  | 40 => 0xB6296767#32
  | 41 => 0x3641014B#32
  | 42 => 0xB65DA20C#32
  | 43 => 0x368056F2#32
  | 44 => 0xB695FBC4#32
  | 45 => 0x36B0ED61#32
  | 46 => 0xB6D29E9B#32
  | 47 => 0x36FFBDB2#32
  | 48 => 0xB692EE32#32
  | 49 => 0x391EBB1A#32
  | 50 => 0x3B12D0DF#32
  | 51 => 0x3CA0086D#32
  | 52 => 0x3DBAD58B#32
  | 53 => 0x3E6BB748#32
  | 54 => 0x3EA069FE#32
  | 55 => 0x3E6BB748#32
  | 56 => 0x3DBAD58B#32
  | 57 => 0x3CA0086D#32
  | 58 => 0x3B12D0DF#32
  | 59 => 0x391EBB1A#32
  | 60 => 0xB692EE32#32
  | 61 => 0x36FFBDB2#32
  | 62 => 0xB6D29E9B#32
  | 63 => 0x36B0ED61#32
  | 64 => 0xB695FBC4#32
  | 65 => 0x368056F2#32
  | 66 => 0xB65DA20C#32
  | 67 => 0x3641014B#32
  | 68 => 0xB6296767#32
  | 69 => 0x3615C529#32
  | 70 => 0xB6054B76#32
  | 71 => 0x35EEB658#32
  | 72 => 0xB5D6F23A#32
  | 73 => 0x35C28A3B#32
  | 74 => 0xB5B0E6EF#32
  | 75 => 0x35A19018#32
  | 76 => 0xB5942572#32
  | 77 => 0x3588594C#32
  | 78 => 0xB57BD8F1#32
  | 79 => 0x35695670#32
  | 80 => 0xB558D5BB#32
  | 81 => 0x354A0FF9#32
  | 82 => 0xB53CCA00#32
  | 83 => 0x3530D21D#32
  | 84 => 0xB525FE56#32
  | 85 => 0x351C2B08#32
  | 86 => 0xB51339CD#32
  | 87 => 0x350B1097#32
  | 88 => 0xB50398F7#32
  | 89 => 0x34F97F13#32
  | 90 => 0xB4ECE6F7#32
  | 91 => 0x34E14C49#32
  | 92 => 0xB4D69568#32
  | 93 => 0x34CCABDA#32
  | 94 => 0xB4C37BD6#32
  | 95 => 0x34BAF3E5#32
  | 96 => 0xB4B30492#32
  | 97 => 0x34ABA023#32
  | 98 => 0xB4A4BA5F#32
  | 99 => 0x349E485F#32
  | 100 => 0xB4984061#32
  | 101 => 0x349299A5#32
  | 102 => 0xB48D4C4D#32
  | 103 => 0x34885143#32
  | 104 => 0xB483A221#32
  | 105 => 0x347E723F#32
  | 106 => 0xB4762200#32
  | 107 => 0x346E49FF#32
  | 108 => 0xB466E193#32
  | 109 => 0x345FE0DA#32
  | 110 => 0xB45940A1#32
  | 111 => 0x3452FA51#32
  | 112 => 0xB44D07E6#32
  | 113 => 0x344763DA#32
  | 114 => 0xB4420919#32
  | 115 => 0x343CF2FA#32
  | 116 => 0xB4381D32#32
  | 117 => 0x343383CC#32
  | 118 => 0xB42F2322#32
  | 119 => 0x342AF7D2#32
  | 120 => 0xB426FEBD#32
  | 121 => 0x342334FF#32
  | 122 => 0xB41F97EA#32
  | 123 => 0x341C2500#32
  | 124 => 0xB418D9F0#32
  | 125 => 0x3415B495#32
  | 126 => 0xB412B2ED#32
  | 127 => 0x340FD31A#32
  | _ => 0#32

noncomputable abbrev lit0t0_109 (i : Nat) : BitVec 32 := match i % 128 with
  | 0 => 0xB40D1360#32
  | 1 => 0x340A721F#32
  | 2 => 0xB407EDD1#32
  | 3 => 0x3405850C#32
  | 4 => 0xB403367C#32
  | 5 => 0x340100E3#32
  | 6 => 0xB3FDC62E#32
  | 7 => 0x33F9B800#32
  | 8 => 0xB3F5D532#32
  | 9 => 0x33F21BD6#32
  | 10 => 0xB3EE8A1F#32
  | 11 => 0x33EB1E5A#32
  | 12 => 0xB3E7D6EF#32
  | 13 => 0x33E4B25D#32
  | 14 => 0xB3E1AF3D#32
  | 15 => 0x33DECC38#32
  | 16 => 0xB3DC0810#32
  | 17 => 0x33D96196#32
  | 18 => 0xB3D6D7AE#32
  | 19 => 0x33D4694B#32
  | 20 => 0xB3D21572#32
  | 21 => 0x33CFDB34#32
  | 22 => 0xB3CDB9B1#32
  | 23 => 0x33CBB015#32
  | 24 => 0xB3C9BD97#32
  | 25 => 0x33C7E17D#32
  | 26 => 0xB3C61B15#32
  | 27 => 0x33C469B8#32
  | 28 => 0xB3C2CCC7#32
  | 29 => 0x33C143B0#32
  | 30 => 0xB3BFCDE6#32
  | 31 => 0x33BE6AE7#32
  | 32 => 0xB3BD1A36#32
  | 33 => 0x33BBDB61#32
  | 34 => 0xB3BAADFB#32
  | 35 => 0x33B9919E#32
  | 36 => 0xB3B885EC#32
  | 37 => 0x33B78A8A#32
  | 38 => 0xB3B69F28#32
  | 39 => 0x33B5C377#32
  | 40 => 0xB3B4F732#32
  | 41 => 0x33B43A15#32
  | 42 => 0xB3B38BE5#32
  | 43 => 0x33B2EC6A#32
  | 44 => 0xB3B25B72#32
  | 45 => 0x33B1D8CF#32
  | 46 => 0xB3B16459#32
  | 47 => 0x33B0FDEA#32
  | 48 => 0xB3B0A563#32
  | 49 => 0x33B05AA9#32
  | 50 => 0xB3B01DA5#32
  | 51 => 0x33AFEE43#32
  | 52 => 0xB3AFCC75#32
  | 53 => 0x33AFB831#32
  | 54 => 0xB3AFB170#32
  | 55 => 0x33AFB831#32
  | 56 => 0xB3AFCC75#32
  | 57 => 0x33AFEE43#32
  | 58 => 0xB3B01DA5#32
  | 59 => 0x33B05AA9#32
  | 60 => 0xB3B0A563#32
  | 61 => 0x33B0FDEA#32
  | 62 => 0xB3B16459#32
  | 63 => 0x33B1D8CF#32
  | 64 => 0xB3B25B72#32
  | 65 => 0x33B2EC6A#32
  | 66 => 0xB3B38BE5#32
  | 67 => 0x33B43A15#32
  | 68 => 0xB3B4F732#32
  | 69 => 0x33B5C377#32
  | 70 => 0xB3B69F28#32
  | 71 => 0x33B78A8A#32
  | 72 => 0xB3B885EC#32
  | 73 => 0x33B9919E#32
  | 74 => 0xB3BAADFB#32
  | 75 => 0x33BBDB61#32
  | 76 => 0xB3BD1A36#32
  | 77 => 0x33BE6AE7#32
  | 78 => 0xB3BFCDE6#32
  | 79 => 0x33C143B0#32
  | 80 => 0xB3C2CCC7#32
  | 81 => 0x33C469B8#32
  | 82 => 0xB3C61B15#32
  | 83 => 0x33C7E17D#32
  | 84 => 0xB3C9BD97#32
  | 85 => 0x33CBB015#32
  | 86 => 0xB3CDB9B1#32
  | 87 => 0x33CFDB34#32
  | 88 => 0xB3D21572#32
  | 89 => 0x33D4694B#32
  | 90 => 0xB3D6D7AE#32
  | 91 => 0x33D96196#32
  | 92 => 0xB3DC0810#32
  | 93 => 0x33DECC38#32
  | 94 => 0xB3E1AF3D#32
  | 95 => 0x33E4B25D#32
  | 96 => 0xB3E7D6EF#32
  | 97 => 0x33EB1E5A#32
  | 98 => 0xB3EE8A1F#32
  | 99 => 0x33F21BD6#32
  | 100 => 0xB3F5D532#32
  | 101 => 0x33F9B800#32
  | 102 => 0xB3FDC62E#32
  | 103 => 0x340100E3#32
  | 104 => 0xB403367C#32
  | 105 => 0x3405850C#32
  | 106 => 0xB407EDD1#32
  | 107 => 0x340A721F#32
  | 108 => 0xB40D1360#32
  | 109 => 0x340FD31A#32
  | 110 => 0xB412B2ED#32
  | 111 => 0x3415B495#32
  | 112 => 0xB418D9F0#32
  | 113 => 0x341C2500#32
  | 114 => 0xB41F97EA#32
  | 115 => 0x342334FF#32
  | 116 => 0xB426FEBD#32
  | 117 => 0x342AF7D2#32
  | 118 => 0xB42F2322#32
  | 119 => 0x343383CC#32
  | 120 => 0xB4381D32#32
  | 121 => 0x343CF2FA#32
  | 122 => 0xB4420919#32
  | 123 => 0x344763DA#32
  | 124 => 0xB44D07E6#32
  | 125 => 0x3452FA51#32
  | 126 => 0xB45940A1#32
  | 127 => 0x345FE0DA#32
  | _ => 0#32

noncomputable abbrev lit0t0_110 (i : Nat) : BitVec 32 := match i % 128 with
  | 0 => 0x345FE0DA#32
  | 1 => 0xB466E193#32
  | 2 => 0x346E49FF#32
  | 3 => 0xB4762200#32
  | 4 => 0x347E723F#32
  | 5 => 0xB483A221#32
  | 6 => 0x34885143#32
  | 7 => 0xB48D4C4D#32
  | 8 => 0x349299A5#32
  | 9 => 0xB4984061#32
  | 10 => 0x349E485F#32
  | 11 => 0xB4A4BA5F#32
  | 12 => 0x34ABA023#32
  | 13 => 0xB4B30492#32
  | 14 => 0x34BAF3E5#32
  | 15 => 0xB4C37BD6#32
  | 16 => 0x34CCABDA#32
  | 17 => 0xB4D69568#32
  | 18 => 0x34E14C49#32
  | 19 => 0xB4ECE6F7#32
  | 20 => 0x34F97F13#32
  | 21 => 0xB50398F7#32
  | 22 => 0x350B1097#32
  | 23 => 0xB51339CD#32
  | 24 => 0x351C2B08#32
  | 25 => 0xB525FE56#32
  | 26 => 0x3530D21D#32
  | 27 => 0xB53CCA00#32
  | 28 => 0x354A0FF9#32
  | 29 => 0xB558D5BB#32
  | 30 => 0x35695670#32
  | 31 => 0xB57BD8F1#32
  | 32 => 0x3588594C#32
  | 33 => 0xB5942572#32
  | 34 => 0x35A19018#32
  | 35 => 0xB5B0E6EF#32
  | 36 => 0x35C28A3B#32
  | 37 => 0xB5D6F23A#32
  | 38 => 0x35EEB658#32
  | 39 => 0xB6054B76#32
  | 40 => 0x3615C529#32
  | 41 => 0xB6296767#32
  | 42 => 0x3641014B#32
  | 43 => 0xB65DA20C#32
  | 44 => 0x368056F2#32
  | 45 => 0xB695FBC4#32
  | 46 => 0x36B0ED61#32
  | 47 => 0xB6D29E9B#32
  | 48 => 0x36FFBDB2#32
  | 49 => 0xB692EE32#32
  | 50 => 0x391EBB1A#32
  | 51 => 0x3B12D0DF#32
  | 52 => 0x3CA0086D#32
  | 53 => 0x3DBAD58B#32
  | 54 => 0x3E6BB748#32
  | 55 => 0x3EA069FE#32
  | 56 => 0x3E6BB748#32
  | 57 => 0x3DBAD58B#32
  | 58 => 0x3CA0086D#32
  | 59 => 0x3B12D0DF#32
  | 60 => 0x391EBB1A#32
  | 61 => 0xB692EE32#32
  | 62 => 0x36FFBDB2#32
  | 63 => 0xB6D29E9B#32
  | 64 => 0x36B0ED61#32
  | 65 => 0xB695FBC4#32
  | 66 => 0x368056F2#32
  | 67 => 0xB65DA20C#32
  | 68 => 0x3641014B#32
  | 69 => 0xB6296767#32
  | 70 => 0x3615C529#32
  | 71 => 0xB6054B76#32
  | 72 => 0x35EEB658#32
  | 73 => 0xB5D6F23A#32
  | 74 => 0x35C28A3B#32
  | 75 => 0xB5B0E6EF#32
  | 76 => 0x35A19018#32
  | 77 => 0xB5942572#32
  | 78 => 0x3588594C#32
  | 79 => 0xB57BD8F1#32
  | 80 => 0x35695670#32
  | 81 => 0xB558D5BB#32
  | 82 => 0x354A0FF9#32
  | 83 => 0xB53CCA00#32
  | 84 => 0x3530D21D#32
  | 85 => 0xB525FE56#32
  | 86 => 0x351C2B08#32
  | 87 => 0xB51339CD#32
  | 88 => 0x350B1097#32
  | 89 => 0xB50398F7#32
  | 90 => 0x34F97F13#32
  | 91 => 0xB4ECE6F7#32
  | 92 => 0x34E14C49#32
  | 93 => 0xB4D69568#32
  | 94 => 0x34CCABDA#32
  | 95 => 0xB4C37BD6#32
  | 96 => 0x34BAF3E5#32
  | 97 => 0xB4B30492#32
  | 98 => 0x34ABA023#32
  | 99 => 0xB4A4BA5F#32
  | 100 => 0x349E485F#32
  | 101 => 0xB4984061#32
  | 102 => 0x349299A5#32
  | 103 => 0xB48D4C4D#32
  | 104 => 0x34885143#32
  | 105 => 0xB483A221#32
  | 106 => 0x347E723F#32
  | 107 => 0xB4762200#32
  | 108 => 0x346E49FF#32
  | 109 => 0xB466E193#32
  | 110 => 0x345FE0DA#32
  | 111 => 0xB45940A1#32
  | 112 => 0x3452FA51#32
  | 113 => 0xB44D07E6#32
  | 114 => 0x344763DA#32
  | 115 => 0xB4420919#32
  | 116 => 0x343CF2FA#32
  | 117 => 0xB4381D32#32
  | 118 => 0x343383CC#32
  | 119 => 0xB42F2322#32
  | 120 => 0x342AF7D2#32
  | 121 => 0xB426FEBD#32
  | 122 => 0x342334FF#32
  | 123 => 0xB41F97EA#32
  | 124 => 0x341C2500#32
  | 125 => 0xB418D9F0#32
  | 126 => 0x3415B495#32
  | 127 => 0xB412B2ED#32
  | _ => 0#32

noncomputable abbrev lit0t0_111 (i : Nat) : BitVec 32 := match i % 128 with
  | 0 => 0x340FD31A#32
  | 1 => 0xB40D1360#32
  | 2 => 0x340A721F#32
  | 3 => 0xB407EDD1#32
  | 4 => 0x3405850C#32
  | 5 => 0xB403367C#32
  | 6 => 0x340100E3#32
  | 7 => 0xB3FDC62E#32
  | 8 => 0x33F9B800#32
  | 9 => 0xB3F5D532#32
  | 10 => 0x33F21BD6#32
  | 11 => 0xB3EE8A1F#32
  | 12 => 0x33EB1E5A#32
  | 13 => 0xB3E7D6EF#32
  | 14 => 0x33E4B25D#32
  | 15 => 0xB3E1AF3D#32
  | 16 => 0x33DECC38#32
  | 17 => 0xB3DC0810#32
  | 18 => 0x33D96196#32
  | 19 => 0xB3D6D7AE#32
  | 20 => 0x33D4694B#32
  | 21 => 0xB3D21572#32
  | 22 => 0x33CFDB34#32
  | 23 => 0xB3CDB9B1#32
  | 24 => 0x33CBB015#32
  | 25 => 0xB3C9BD97#32
  | 26 => 0x33C7E17D#32
  | 27 => 0xB3C61B15#32
  | 28 => 0x33C469B8#32
  | 29 => 0xB3C2CCC7#32
  | 30 => 0x33C143B0#32
  | 31 => 0xB3BFCDE6#32
  | 32 => 0x33BE6AE7#32
  | 33 => 0xB3BD1A36#32
  | 34 => 0x33BBDB61#32
  | 35 => 0xB3BAADFB#32
  | 36 => 0x33B9919E#32
  | 37 => 0xB3B885EC#32
  | 38 => 0x33B78A8A#32
  | 39 => 0xB3B69F28#32
  | 40 => 0x33B5C377#32
  | 41 => 0xB3B4F732#32
  | 42 => 0x33B43A15#32
  | 43 => 0xB3B38BE5#32
  | 44 => 0x33B2EC6A#32
  | 45 => 0xB3B25B72#32
  | 46 => 0x33B1D8CF#32
  | 47 => 0xB3B16459#32
  | 48 => 0x33B0FDEA#32
  | 49 => 0xB3B0A563#32
  | 50 => 0x33B05AA9#32
  | 51 => 0xB3B01DA5#32
  | 52 => 0x33AFEE43#32
  | 53 => 0xB3AFCC75#32
  | 54 => 0x33AFB831#32
  | 55 => 0xB3AFB170#32
  | 56 => 0x33AFB831#32
  | 57 => 0xB3AFCC75#32
  | 58 => 0x33AFEE43#32
  | 59 => 0xB3B01DA5#32
  | 60 => 0x33B05AA9#32
  | 61 => 0xB3B0A563#32
  | 62 => 0x33B0FDEA#32
  | 63 => 0xB3B16459#32
  | 64 => 0x33B1D8CF#32
  | 65 => 0xB3B25B72#32
  | 66 => 0x33B2EC6A#32
  | 67 => 0xB3B38BE5#32
  | 68 => 0x33B43A15#32
  | 69 => 0xB3B4F732#32
  | 70 => 0x33B5C377#32
  | 71 => 0xB3B69F28#32
  | 72 => 0x33B78A8A#32
  | 73 => 0xB3B885EC#32
  | 74 => 0x33B9919E#32
  | 75 => 0xB3BAADFB#32
  | 76 => 0x33BBDB61#32
  | 77 => 0xB3BD1A36#32
  | 78 => 0x33BE6AE7#32
  | 79 => 0xB3BFCDE6#32
  | 80 => 0x33C143B0#32
  | 81 => 0xB3C2CCC7#32
  | 82 => 0x33C469B8#32
  | 83 => 0xB3C61B15#32
  | 84 => 0x33C7E17D#32
  | 85 => 0xB3C9BD97#32
  | 86 => 0x33CBB015#32
  | 87 => 0xB3CDB9B1#32
  | 88 => 0x33CFDB34#32
  | 89 => 0xB3D21572#32
  | 90 => 0x33D4694B#32
  | 91 => 0xB3D6D7AE#32
  | 92 => 0x33D96196#32
  | 93 => 0xB3DC0810#32
  | 94 => 0x33DECC38#32
  | 95 => 0xB3E1AF3D#32
  | 96 => 0x33E4B25D#32
  | 97 => 0xB3E7D6EF#32
  | 98 => 0x33EB1E5A#32
  | 99 => 0xB3EE8A1F#32
  | 100 => 0x33F21BD6#32
  | 101 => 0xB3F5D532#32
  | 102 => 0x33F9B800#32
  | 103 => 0xB3FDC62E#32
  | 104 => 0x340100E3#32
  | 105 => 0xB403367C#32
  | 106 => 0x3405850C#32
  | 107 => 0xB407EDD1#32
  | 108 => 0x340A721F#32
  | 109 => 0xB40D1360#32
  | 110 => 0x340FD31A#32
  | 111 => 0xB412B2ED#32
  | 112 => 0x3415B495#32
  | 113 => 0xB418D9F0#32
  | 114 => 0x341C2500#32
  | 115 => 0xB41F97EA#32
  | 116 => 0x342334FF#32
  | 117 => 0xB426FEBD#32
  | 118 => 0x342AF7D2#32
  | 119 => 0xB42F2322#32
  | 120 => 0x343383CC#32
  | 121 => 0xB4381D32#32
  | 122 => 0x343CF2FA#32
  | 123 => 0xB4420919#32
  | 124 => 0x344763DA#32
  | 125 => 0xB44D07E6#32
  | 126 => 0x3452FA51#32
  | 127 => 0xB45940A1#32
  | _ => 0#32

noncomputable abbrev lit0t0_112 (i : Nat) : BitVec 32 := match i % 128 with
  | 0 => 0xB45940A1#32
  | 1 => 0x345FE0DA#32
  | 2 => 0xB466E193#32
  | 3 => 0x346E49FF#32
  | 4 => 0xB4762200#32
  | 5 => 0x347E723F#32
  | 6 => 0xB483A221#32
  | 7 => 0x34885143#32
  | 8 => 0xB48D4C4D#32
  | 9 => 0x349299A5#32
  | 10 => 0xB4984061#32
  | 11 => 0x349E485F#32
  | 12 => 0xB4A4BA5F#32
  | 13 => 0x34ABA023#32
  | 14 => 0xB4B30492#32
  | 15 => 0x34BAF3E5#32
  | 16 => 0xB4C37BD6#32
  | 17 => 0x34CCABDA#32
  | 18 => 0xB4D69568#32
  | 19 => 0x34E14C49#32
  | 20 => 0xB4ECE6F7#32
  | 21 => 0x34F97F13#32
  | 22 => 0xB50398F7#32
  | 23 => 0x350B1097#32
  | 24 => 0xB51339CD#32
  | 25 => 0x351C2B08#32
  | 26 => 0xB525FE56#32
  | 27 => 0x3530D21D#32
  | 28 => 0xB53CCA00#32
  | 29 => 0x354A0FF9#32
  | 30 => 0xB558D5BB#32
  | 31 => 0x35695670#32
  | 32 => 0xB57BD8F1#32
  | 33 => 0x3588594C#32
  | 34 => 0xB5942572#32
  | 35 => 0x35A19018#32
  | 36 => 0xB5B0E6EF#32
  | 37 => 0x35C28A3B#32
  | 38 => 0xB5D6F23A#32
  | 39 => 0x35EEB658#32
  | 40 => 0xB6054B76#32
  | 41 => 0x3615C529#32
  | 42 => 0xB6296767#32
  | 43 => 0x3641014B#32
  | 44 => 0xB65DA20C#32
  | 45 => 0x368056F2#32
  | 46 => 0xB695FBC4#32
  | 47 => 0x36B0ED61#32
  | 48 => 0xB6D29E9B#32
  | 49 => 0x36FFBDB2#32
  | 50 => 0xB692EE32#32
  | 51 => 0x391EBB1A#32
  | 52 => 0x3B12D0DF#32
  | 53 => 0x3CA0086D#32
  | 54 => 0x3DBAD58B#32
  | 55 => 0x3E6BB748#32
  | 56 => 0x3EA069FE#32
  | 57 => 0x3E6BB748#32
  | 58 => 0x3DBAD58B#32
  | 59 => 0x3CA0086D#32
  | 60 => 0x3B12D0DF#32
  | 61 => 0x391EBB1A#32
  | 62 => 0xB692EE32#32
  | 63 => 0x36FFBDB2#32
  | 64 => 0xB6D29E9B#32
  | 65 => 0x36B0ED61#32
  | 66 => 0xB695FBC4#32
  | 67 => 0x368056F2#32
  | 68 => 0xB65DA20C#32
  | 69 => 0x3641014B#32
  | 70 => 0xB6296767#32
  | 71 => 0x3615C529#32
  | 72 => 0xB6054B76#32
  | 73 => 0x35EEB658#32
  | 74 => 0xB5D6F23A#32
  | 75 => 0x35C28A3B#32
  | 76 => 0xB5B0E6EF#32
  | 77 => 0x35A19018#32
  | 78 => 0xB5942572#32
  | 79 => 0x3588594C#32
  | 80 => 0xB57BD8F1#32
  | 81 => 0x35695670#32
  | 82 => 0xB558D5BB#32
  | 83 => 0x354A0FF9#32
  | 84 => 0xB53CCA00#32
  | 85 => 0x3530D21D#32
  | 86 => 0xB525FE56#32
  | 87 => 0x351C2B08#32
  | 88 => 0xB51339CD#32
  | 89 => 0x350B1097#32
  | 90 => 0xB50398F7#32
  | 91 => 0x34F97F13#32
  | 92 => 0xB4ECE6F7#32
  | 93 => 0x34E14C49#32
  | 94 => 0xB4D69568#32
  | 95 => 0x34CCABDA#32
  | 96 => 0xB4C37BD6#32
  | 97 => 0x34BAF3E5#32
  | 98 => 0xB4B30492#32
  | 99 => 0x34ABA023#32
  | 100 => 0xB4A4BA5F#32
  | 101 => 0x349E485F#32
  | 102 => 0xB4984061#32
  | 103 => 0x349299A5#32
  | 104 => 0xB48D4C4D#32
  | 105 => 0x34885143#32
  | 106 => 0xB483A221#32
  | 107 => 0x347E723F#32
  | 108 => 0xB4762200#32
  | 109 => 0x346E49FF#32
  | 110 => 0xB466E193#32
  | 111 => 0x345FE0DA#32
  | 112 => 0xB45940A1#32
  | 113 => 0x3452FA51#32
  | 114 => 0xB44D07E6#32
  | 115 => 0x344763DA#32
  | 116 => 0xB4420919#32
  | 117 => 0x343CF2FA#32
  | 118 => 0xB4381D32#32
  | 119 => 0x343383CC#32
  | 120 => 0xB42F2322#32
  | 121 => 0x342AF7D2#32
  | 122 => 0xB426FEBD#32
  | 123 => 0x342334FF#32
  | 124 => 0xB41F97EA#32
  | 125 => 0x341C2500#32
  | 126 => 0xB418D9F0#32
  | 127 => 0x3415B495#32
  | _ => 0#32

noncomputable abbrev lit0t0_113 (i : Nat) : BitVec 32 := match i % 128 with
  | 0 => 0xB412B2ED#32
  | 1 => 0x340FD31A#32
  | 2 => 0xB40D1360#32
  | 3 => 0x340A721F#32
  | 4 => 0xB407EDD1#32
  | 5 => 0x3405850C#32
  | 6 => 0xB403367C#32
  | 7 => 0x340100E3#32
  | 8 => 0xB3FDC62E#32
  | 9 => 0x33F9B800#32
  | 10 => 0xB3F5D532#32
  | 11 => 0x33F21BD6#32
  | 12 => 0xB3EE8A1F#32
  | 13 => 0x33EB1E5A#32
  | 14 => 0xB3E7D6EF#32
  | 15 => 0x33E4B25D#32
  | 16 => 0xB3E1AF3D#32
  | 17 => 0x33DECC38#32
  | 18 => 0xB3DC0810#32
  | 19 => 0x33D96196#32
  | 20 => 0xB3D6D7AE#32
  | 21 => 0x33D4694B#32
  | 22 => 0xB3D21572#32
  | 23 => 0x33CFDB34#32
  | 24 => 0xB3CDB9B1#32
  | 25 => 0x33CBB015#32
  | 26 => 0xB3C9BD97#32
  | 27 => 0x33C7E17D#32
  | 28 => 0xB3C61B15#32
  | 29 => 0x33C469B8#32
  | 30 => 0xB3C2CCC7#32
  | 31 => 0x33C143B0#32
  | 32 => 0xB3BFCDE6#32
  | 33 => 0x33BE6AE7#32
  | 34 => 0xB3BD1A36#32
  | 35 => 0x33BBDB61#32
  | 36 => 0xB3BAADFB#32
  | 37 => 0x33B9919E#32
  | 38 => 0xB3B885EC#32
  | 39 => 0x33B78A8A#32
  | 40 => 0xB3B69F28#32
  | 41 => 0x33B5C377#32
  | 42 => 0xB3B4F732#32
  | 43 => 0x33B43A15#32
  | 44 => 0xB3B38BE5#32
  | 45 => 0x33B2EC6A#32
  | 46 => 0xB3B25B72#32
  | 47 => 0x33B1D8CF#32
  | 48 => 0xB3B16459#32
  | 49 => 0x33B0FDEA#32
  | 50 => 0xB3B0A563#32
  | 51 => 0x33B05AA9#32
  | 52 => 0xB3B01DA5#32
  | 53 => 0x33AFEE43#32
  | 54 => 0xB3AFCC75#32
  | 55 => 0x33AFB831#32
  | 56 => 0xB3AFB170#32
  | 57 => 0x33AFB831#32
  | 58 => 0xB3AFCC75#32
  | 59 => 0x33AFEE43#32
  | 60 => 0xB3B01DA5#32
  | 61 => 0x33B05AA9#32
  | 62 => 0xB3B0A563#32
  | 63 => 0x33B0FDEA#32
  | 64 => 0xB3B16459#32
  | 65 => 0x33B1D8CF#32
  | 66 => 0xB3B25B72#32
  | 67 => 0x33B2EC6A#32
  | 68 => 0xB3B38BE5#32
  | 69 => 0x33B43A15#32
  | 70 => 0xB3B4F732#32
  | 71 => 0x33B5C377#32
  | 72 => 0xB3B69F28#32
  | 73 => 0x33B78A8A#32
  | 74 => 0xB3B885EC#32
  | 75 => 0x33B9919E#32
  | 76 => 0xB3BAADFB#32
  | 77 => 0x33BBDB61#32
  | 78 => 0xB3BD1A36#32
  | 79 => 0x33BE6AE7#32
  | 80 => 0xB3BFCDE6#32
  | 81 => 0x33C143B0#32
  | 82 => 0xB3C2CCC7#32
  | 83 => 0x33C469B8#32
  | 84 => 0xB3C61B15#32
  | 85 => 0x33C7E17D#32
  | 86 => 0xB3C9BD97#32
  | 87 => 0x33CBB015#32
  | 88 => 0xB3CDB9B1#32
  | 89 => 0x33CFDB34#32
  | 90 => 0xB3D21572#32
  | 91 => 0x33D4694B#32
  | 92 => 0xB3D6D7AE#32
  | 93 => 0x33D96196#32
  | 94 => 0xB3DC0810#32
  | 95 => 0x33DECC38#32
  | 96 => 0xB3E1AF3D#32
  | 97 => 0x33E4B25D#32
  | 98 => 0xB3E7D6EF#32
  | 99 => 0x33EB1E5A#32
  | 100 => 0xB3EE8A1F#32
  | 101 => 0x33F21BD6#32
  | 102 => 0xB3F5D532#32
  | 103 => 0x33F9B800#32
  | 104 => 0xB3FDC62E#32
  | 105 => 0x340100E3#32
  | 106 => 0xB403367C#32
  | 107 => 0x3405850C#32
  | 108 => 0xB407EDD1#32
  | 109 => 0x340A721F#32
  | 110 => 0xB40D1360#32
  | 111 => 0x340FD31A#32
  | 112 => 0xB412B2ED#32
  | 113 => 0x3415B495#32
  | 114 => 0xB418D9F0#32
  | 115 => 0x341C2500#32
  | 116 => 0xB41F97EA#32
  | 117 => 0x342334FF#32
  | 118 => 0xB426FEBD#32
  | 119 => 0x342AF7D2#32
  | 120 => 0xB42F2322#32
  | 121 => 0x343383CC#32
  | 122 => 0xB4381D32#32
  | 123 => 0x343CF2FA#32
  | 124 => 0xB4420919#32
  | 125 => 0x344763DA#32
  | 126 => 0xB44D07E6#32
  | 127 => 0x3452FA51#32
  | _ => 0#32

noncomputable abbrev lit0t0_114 (i : Nat) : BitVec 32 := match i % 128 with
  | 0 => 0x3452FA51#32
  | 1 => 0xB45940A1#32
  | 2 => 0x345FE0DA#32
  | 3 => 0xB466E193#32
  | 4 => 0x346E49FF#32
  | 5 => 0xB4762200#32
  | 6 => 0x347E723F#32
  | 7 => 0xB483A221#32
  | 8 => 0x34885143#32
  | 9 => 0xB48D4C4D#32
  | 10 => 0x349299A5#32
  | 11 => 0xB4984061#32
  | 12 => 0x349E485F#32
  | 13 => 0xB4A4BA5F#32
  | 14 => 0x34ABA023#32
  | 15 => 0xB4B30492#32
  | 16 => 0x34BAF3E5#32
  | 17 => 0xB4C37BD6#32
  | 18 => 0x34CCABDA#32
  | 19 => 0xB4D69568#32
  | 20 => 0x34E14C49#32
  | 21 => 0xB4ECE6F7#32
  | 22 => 0x34F97F13#32
  | 23 => 0xB50398F7#32
  | 24 => 0x350B1097#32
  | 25 => 0xB51339CD#32
  | 26 => 0x351C2B08#32
  | 27 => 0xB525FE56#32
  | 28 => 0x3530D21D#32
  | 29 => 0xB53CCA00#32
  | 30 => 0x354A0FF9#32
  | 31 => 0xB558D5BB#32
  | 32 => 0x35695670#32
  | 33 => 0xB57BD8F1#32
  | 34 => 0x3588594C#32
  | 35 => 0xB5942572#32
  | 36 => 0x35A19018#32
  | 37 => 0xB5B0E6EF#32
  | 38 => 0x35C28A3B#32
  | 39 => 0xB5D6F23A#32
  | 40 => 0x35EEB658#32
  | 41 => 0xB6054B76#32
  | 42 => 0x3615C529#32
  | 43 => 0xB6296767#32
  | 44 => 0x3641014B#32
  | 45 => 0xB65DA20C#32
  | 46 => 0x368056F2#32
  | 47 => 0xB695FBC4#32
  | 48 => 0x36B0ED61#32
  | 49 => 0xB6D29E9B#32
  | 50 => 0x36FFBDB2#32
  | 51 => 0xB692EE32#32
  | 52 => 0x391EBB1A#32
  | 53 => 0x3B12D0DF#32
  | 54 => 0x3CA0086D#32
  | 55 => 0x3DBAD58B#32
  | 56 => 0x3E6BB748#32
  | 57 => 0x3EA069FE#32
  | 58 => 0x3E6BB748#32
  | 59 => 0x3DBAD58B#32
  | 60 => 0x3CA0086D#32
  | 61 => 0x3B12D0DF#32
  | 62 => 0x391EBB1A#32
  | 63 => 0xB692EE32#32
  | 64 => 0x36FFBDB2#32
  | 65 => 0xB6D29E9B#32
  | 66 => 0x36B0ED61#32
  | 67 => 0xB695FBC4#32
  | 68 => 0x368056F2#32
  | 69 => 0xB65DA20C#32
  | 70 => 0x3641014B#32
  | 71 => 0xB6296767#32
  | 72 => 0x3615C529#32
  | 73 => 0xB6054B76#32
  | 74 => 0x35EEB658#32
  | 75 => 0xB5D6F23A#32
  | 76 => 0x35C28A3B#32
  | 77 => 0xB5B0E6EF#32
  | 78 => 0x35A19018#32
  | 79 => 0xB5942572#32
  | 80 => 0x3588594C#32
  | 81 => 0xB57BD8F1#32
  | 82 => 0x35695670#32
  | 83 => 0xB558D5BB#32
  | 84 => 0x354A0FF9#32
  | 85 => 0xB53CCA00#32
  | 86 => 0x3530D21D#32
  | 87 => 0xB525FE56#32
  | 88 => 0x351C2B08#32
  | 89 => 0xB51339CD#32
  | 90 => 0x350B1097#32
  | 91 => 0xB50398F7#32
  | 92 => 0x34F97F13#32
  | 93 => 0xB4ECE6F7#32
  | 94 => 0x34E14C49#32
  | 95 => 0xB4D69568#32
  | 96 => 0x34CCABDA#32
  | 97 => 0xB4C37BD6#32
  | 98 => 0x34BAF3E5#32
  | 99 => 0xB4B30492#32
  | 100 => 0x34ABA023#32
  | 101 => 0xB4A4BA5F#32
  | 102 => 0x349E485F#32
  | 103 => 0xB4984061#32
  | 104 => 0x349299A5#32
  | 105 => 0xB48D4C4D#32
  | 106 => 0x34885143#32
  | 107 => 0xB483A221#32
  | 108 => 0x347E723F#32
  | 109 => 0xB4762200#32
  | 110 => 0x346E49FF#32
  | 111 => 0xB466E193#32
  | 112 => 0x345FE0DA#32
  | 113 => 0xB45940A1#32
  | 114 => 0x3452FA51#32
  | 115 => 0xB44D07E6#32
  | 116 => 0x344763DA#32
  | 117 => 0xB4420919#32
  | 118 => 0x343CF2FA#32
  | 119 => 0xB4381D32#32
  | 120 => 0x343383CC#32
  | 121 => 0xB42F2322#32
  | 122 => 0x342AF7D2#32
  | 123 => 0xB426FEBD#32
  | 124 => 0x342334FF#32
  | 125 => 0xB41F97EA#32
  | 126 => 0x341C2500#32
  | 127 => 0xB418D9F0#32
  | _ => 0#32

noncomputable abbrev lit0t0_115 (i : Nat) : BitVec 32 := match i % 128 with
  | 0 => 0x3415B495#32
  | 1 => 0xB412B2ED#32
  | 2 => 0x340FD31A#32
  | 3 => 0xB40D1360#32
  | 4 => 0x340A721F#32
  | 5 => 0xB407EDD1#32
  | 6 => 0x3405850C#32
  | 7 => 0xB403367C#32
  | 8 => 0x340100E3#32
  | 9 => 0xB3FDC62E#32
  | 10 => 0x33F9B800#32
  | 11 => 0xB3F5D532#32
  | 12 => 0x33F21BD6#32
  | 13 => 0xB3EE8A1F#32
  | 14 => 0x33EB1E5A#32
  | 15 => 0xB3E7D6EF#32
  | 16 => 0x33E4B25D#32
  | 17 => 0xB3E1AF3D#32
  | 18 => 0x33DECC38#32
  | 19 => 0xB3DC0810#32
  | 20 => 0x33D96196#32
  | 21 => 0xB3D6D7AE#32
  | 22 => 0x33D4694B#32
  | 23 => 0xB3D21572#32
  | 24 => 0x33CFDB34#32
  | 25 => 0xB3CDB9B1#32
  | 26 => 0x33CBB015#32
  | 27 => 0xB3C9BD97#32
  | 28 => 0x33C7E17D#32
  | 29 => 0xB3C61B15#32
  | 30 => 0x33C469B8#32
  | 31 => 0xB3C2CCC7#32
  | 32 => 0x33C143B0#32
  | 33 => 0xB3BFCDE6#32
  | 34 => 0x33BE6AE7#32
  | 35 => 0xB3BD1A36#32
  | 36 => 0x33BBDB61#32
  | 37 => 0xB3BAADFB#32
  | 38 => 0x33B9919E#32
  | 39 => 0xB3B885EC#32
  | 40 => 0x33B78A8A#32
  | 41 => 0xB3B69F28#32
  | 42 => 0x33B5C377#32
  | 43 => 0xB3B4F732#32
  | 44 => 0x33B43A15#32
  | 45 => 0xB3B38BE5#32
  | 46 => 0x33B2EC6A#32
  | 47 => 0xB3B25B72#32
  | 48 => 0x33B1D8CF#32
  | 49 => 0xB3B16459#32
  | 50 => 0x33B0FDEA#32
  | 51 => 0xB3B0A563#32
  | 52 => 0x33B05AA9#32
  | 53 => 0xB3B01DA5#32
  | 54 => 0x33AFEE43#32
  | 55 => 0xB3AFCC75#32
  | 56 => 0x33AFB831#32
  | 57 => 0xB3AFB170#32
  | 58 => 0x33AFB831#32
  | 59 => 0xB3AFCC75#32
  | 60 => 0x33AFEE43#32
  | 61 => 0xB3B01DA5#32
  | 62 => 0x33B05AA9#32
  | 63 => 0xB3B0A563#32
  | 64 => 0x33B0FDEA#32
  | 65 => 0xB3B16459#32
  | 66 => 0x33B1D8CF#32
  | 67 => 0xB3B25B72#32
  | 68 => 0x33B2EC6A#32
  | 69 => 0xB3B38BE5#32
  | 70 => 0x33B43A15#32
  | 71 => 0xB3B4F732#32
  | 72 => 0x33B5C377#32
  | 73 => 0xB3B69F28#32
  | 74 => 0x33B78A8A#32
  | 75 => 0xB3B885EC#32
  | 76 => 0x33B9919E#32
  | 77 => 0xB3BAADFB#32
  | 78 => 0x33BBDB61#32
  | 79 => 0xB3BD1A36#32
  | 80 => 0x33BE6AE7#32
  | 81 => 0xB3BFCDE6#32
  | 82 => 0x33C143B0#32
  | 83 => 0xB3C2CCC7#32
  | 84 => 0x33C469B8#32
  | 85 => 0xB3C61B15#32
  | 86 => 0x33C7E17D#32
  | 87 => 0xB3C9BD97#32
  | 88 => 0x33CBB015#32
  | 89 => 0xB3CDB9B1#32
  | 90 => 0x33CFDB34#32
  | 91 => 0xB3D21572#32
  | 92 => 0x33D4694B#32
  | 93 => 0xB3D6D7AE#32
  | 94 => 0x33D96196#32
  | 95 => 0xB3DC0810#32
  | 96 => 0x33DECC38#32
  | 97 => 0xB3E1AF3D#32
  | 98 => 0x33E4B25D#32
  | 99 => 0xB3E7D6EF#32
  | 100 => 0x33EB1E5A#32
  | 101 => 0xB3EE8A1F#32
  | 102 => 0x33F21BD6#32
  | 103 => 0xB3F5D532#32
  | 104 => 0x33F9B800#32
  | 105 => 0xB3FDC62E#32
  | 106 => 0x340100E3#32
  | 107 => 0xB403367C#32
  | 108 => 0x3405850C#32
  | 109 => 0xB407EDD1#32
  | 110 => 0x340A721F#32
  | 111 => 0xB40D1360#32
  | 112 => 0x340FD31A#32
  | 113 => 0xB412B2ED#32
  | 114 => 0x3415B495#32
  | 115 => 0xB418D9F0#32
  | 116 => 0x341C2500#32
  | 117 => 0xB41F97EA#32
  | 118 => 0x342334FF#32
  | 119 => 0xB426FEBD#32
  | 120 => 0x342AF7D2#32
  | 121 => 0xB42F2322#32
  | 122 => 0x343383CC#32
  | 123 => 0xB4381D32#32
  | 124 => 0x343CF2FA#32
  | 125 => 0xB4420919#32
  | 126 => 0x344763DA#32
  | 127 => 0xB44D07E6#32
  | _ => 0#32

noncomputable abbrev lit0t0_116 (i : Nat) : BitVec 32 := match i % 128 with
  | 0 => 0xB44D07E6#32
  | 1 => 0x3452FA51#32
  | 2 => 0xB45940A1#32
  | 3 => 0x345FE0DA#32
  | 4 => 0xB466E193#32
  | 5 => 0x346E49FF#32
  | 6 => 0xB4762200#32
  | 7 => 0x347E723F#32
  | 8 => 0xB483A221#32
  | 9 => 0x34885143#32
  | 10 => 0xB48D4C4D#32
  | 11 => 0x349299A5#32
  | 12 => 0xB4984061#32
  | 13 => 0x349E485F#32
  | 14 => 0xB4A4BA5F#32
  | 15 => 0x34ABA023#32
  | 16 => 0xB4B30492#32
  | 17 => 0x34BAF3E5#32
  | 18 => 0xB4C37BD6#32
  | 19 => 0x34CCABDA#32
  | 20 => 0xB4D69568#32
  | 21 => 0x34E14C49#32
  | 22 => 0xB4ECE6F7#32
  | 23 => 0x34F97F13#32
  | 24 => 0xB50398F7#32
  | 25 => 0x350B1097#32
  | 26 => 0xB51339CD#32
  | 27 => 0x351C2B08#32
  | 28 => 0xB525FE56#32
  | 29 => 0x3530D21D#32
  | 30 => 0xB53CCA00#32
  | 31 => 0x354A0FF9#32
  | 32 => 0xB558D5BB#32
  | 33 => 0x35695670#32
  | 34 => 0xB57BD8F1#32
  | 35 => 0x3588594C#32
  | 36 => 0xB5942572#32
  | 37 => 0x35A19018#32
  | 38 => 0xB5B0E6EF#32
  | 39 => 0x35C28A3B#32
  | 40 => 0xB5D6F23A#32
  | 41 => 0x35EEB658#32
  | 42 => 0xB6054B76#32
  | 43 => 0x3615C529#32
  | 44 => 0xB6296767#32
  | 45 => 0x3641014B#32
  | 46 => 0xB65DA20C#32
  | 47 => 0x368056F2#32
  | 48 => 0xB695FBC4#32
  | 49 => 0x36B0ED61#32
  | 50 => 0xB6D29E9B#32
  | 51 => 0x36FFBDB2#32
  | 52 => 0xB692EE32#32
  | 53 => 0x391EBB1A#32
  | 54 => 0x3B12D0DF#32
  | 55 => 0x3CA0086D#32
  | 56 => 0x3DBAD58B#32
  | 57 => 0x3E6BB748#32
  | 58 => 0x3EA069FE#32
  | 59 => 0x3E6BB748#32
  | 60 => 0x3DBAD58B#32
  | 61 => 0x3CA0086D#32
  | 62 => 0x3B12D0DF#32
  | 63 => 0x391EBB1A#32
  | 64 => 0xB692EE32#32
  | 65 => 0x36FFBDB2#32
  | 66 => 0xB6D29E9B#32
  | 67 => 0x36B0ED61#32
  | 68 => 0xB695FBC4#32
  | 69 => 0x368056F2#32
  | 70 => 0xB65DA20C#32
  | 71 => 0x3641014B#32
  | 72 => 0xB6296767#32
  | 73 => 0x3615C529#32
  | 74 => 0xB6054B76#32
  | 75 => 0x35EEB658#32
  | 76 => 0xB5D6F23A#32
  | 77 => 0x35C28A3B#32
  | 78 => 0xB5B0E6EF#32
  | 79 => 0x35A19018#32
  | 80 => 0xB5942572#32
  | 81 => 0x3588594C#32
  | 82 => 0xB57BD8F1#32
  | 83 => 0x35695670#32
  | 84 => 0xB558D5BB#32
  | 85 => 0x354A0FF9#32
  | 86 => 0xB53CCA00#32
  | 87 => 0x3530D21D#32
  | 88 => 0xB525FE56#32
  | 89 => 0x351C2B08#32
  | 90 => 0xB51339CD#32
  | 91 => 0x350B1097#32
  | 92 => 0xB50398F7#32
  | 93 => 0x34F97F13#32
  | 94 => 0xB4ECE6F7#32
  | 95 => 0x34E14C49#32
  | 96 => 0xB4D69568#32
  | 97 => 0x34CCABDA#32
  | 98 => 0xB4C37BD6#32
  | 99 => 0x34BAF3E5#32
  | 100 => 0xB4B30492#32
  | 101 => 0x34ABA023#32
  | 102 => 0xB4A4BA5F#32
  | 103 => 0x349E485F#32
  | 104 => 0xB4984061#32
  | 105 => 0x349299A5#32
  | 106 => 0xB48D4C4D#32
  | 107 => 0x34885143#32
  | 108 => 0xB483A221#32
  | 109 => 0x347E723F#32
  | 110 => 0xB4762200#32
  | 111 => 0x346E49FF#32
  | 112 => 0xB466E193#32
  | 113 => 0x345FE0DA#32
  | 114 => 0xB45940A1#32
  | 115 => 0x3452FA51#32
  | 116 => 0xB44D07E6#32
  | 117 => 0x344763DA#32
  | 118 => 0xB4420919#32
  | 119 => 0x343CF2FA#32
  | 120 => 0xB4381D32#32
  | 121 => 0x343383CC#32
  | 122 => 0xB42F2322#32
  | 123 => 0x342AF7D2#32
  | 124 => 0xB426FEBD#32
  | 125 => 0x342334FF#32
  | 126 => 0xB41F97EA#32
  | 127 => 0x341C2500#32
  | _ => 0#32

noncomputable abbrev lit0t0_117 (i : Nat) : BitVec 32 := match i % 128 with
  | 0 => 0xB418D9F0#32
  | 1 => 0x3415B495#32
  | 2 => 0xB412B2ED#32
  | 3 => 0x340FD31A#32
  | 4 => 0xB40D1360#32
  | 5 => 0x340A721F#32
  | 6 => 0xB407EDD1#32
  | 7 => 0x3405850C#32
  | 8 => 0xB403367C#32
  | 9 => 0x340100E3#32
  | 10 => 0xB3FDC62E#32
  | 11 => 0x33F9B800#32
  | 12 => 0xB3F5D532#32
  | 13 => 0x33F21BD6#32
  | 14 => 0xB3EE8A1F#32
  | 15 => 0x33EB1E5A#32
  | 16 => 0xB3E7D6EF#32
  | 17 => 0x33E4B25D#32
  | 18 => 0xB3E1AF3D#32
  | 19 => 0x33DECC38#32
  | 20 => 0xB3DC0810#32
  | 21 => 0x33D96196#32
  | 22 => 0xB3D6D7AE#32
  | 23 => 0x33D4694B#32
  | 24 => 0xB3D21572#32
  | 25 => 0x33CFDB34#32
  | 26 => 0xB3CDB9B1#32
  | 27 => 0x33CBB015#32
  | 28 => 0xB3C9BD97#32
  | 29 => 0x33C7E17D#32
  | 30 => 0xB3C61B15#32
  | 31 => 0x33C469B8#32
  | 32 => 0xB3C2CCC7#32
  | 33 => 0x33C143B0#32
  | 34 => 0xB3BFCDE6#32
  | 35 => 0x33BE6AE7#32
  | 36 => 0xB3BD1A36#32
  | 37 => 0x33BBDB61#32
  | 38 => 0xB3BAADFB#32
  | 39 => 0x33B9919E#32
  | 40 => 0xB3B885EC#32
  | 41 => 0x33B78A8A#32
  | 42 => 0xB3B69F28#32
  | 43 => 0x33B5C377#32
  | 44 => 0xB3B4F732#32
  | 45 => 0x33B43A15#32
  | 46 => 0xB3B38BE5#32
  | 47 => 0x33B2EC6A#32
  | 48 => 0xB3B25B72#32
  | 49 => 0x33B1D8CF#32
  | 50 => 0xB3B16459#32
  | 51 => 0x33B0FDEA#32
  | 52 => 0xB3B0A563#32
  | 53 => 0x33B05AA9#32
  | 54 => 0xB3B01DA5#32
  | 55 => 0x33AFEE43#32
  | 56 => 0xB3AFCC75#32
  | 57 => 0x33AFB831#32
  | 58 => 0xB3AFB170#32
  | 59 => 0x33AFB831#32
  | 60 => 0xB3AFCC75#32
  | 61 => 0x33AFEE43#32
  | 62 => 0xB3B01DA5#32
  | 63 => 0x33B05AA9#32
  | 64 => 0xB3B0A563#32
  | 65 => 0x33B0FDEA#32
  | 66 => 0xB3B16459#32
  | 67 => 0x33B1D8CF#32
  | 68 => 0xB3B25B72#32
  | 69 => 0x33B2EC6A#32
  | 70 => 0xB3B38BE5#32
  | 71 => 0x33B43A15#32
  | 72 => 0xB3B4F732#32
  | 73 => 0x33B5C377#32
  | 74 => 0xB3B69F28#32
  | 75 => 0x33B78A8A#32
  | 76 => 0xB3B885EC#32
  | 77 => 0x33B9919E#32
  | 78 => 0xB3BAADFB#32
  | 79 => 0x33BBDB61#32
  | 80 => 0xB3BD1A36#32
  | 81 => 0x33BE6AE7#32
  | 82 => 0xB3BFCDE6#32
  | 83 => 0x33C143B0#32
  | 84 => 0xB3C2CCC7#32
  | 85 => 0x33C469B8#32
  | 86 => 0xB3C61B15#32
  | 87 => 0x33C7E17D#32
  | 88 => 0xB3C9BD97#32
  | 89 => 0x33CBB015#32
  | 90 => 0xB3CDB9B1#32
  | 91 => 0x33CFDB34#32
  | 92 => 0xB3D21572#32
  | 93 => 0x33D4694B#32
  | 94 => 0xB3D6D7AE#32
  | 95 => 0x33D96196#32
  | 96 => 0xB3DC0810#32
  | 97 => 0x33DECC38#32
  | 98 => 0xB3E1AF3D#32
  | 99 => 0x33E4B25D#32
  | 100 => 0xB3E7D6EF#32
  | 101 => 0x33EB1E5A#32
  | 102 => 0xB3EE8A1F#32
  | 103 => 0x33F21BD6#32
  | 104 => 0xB3F5D532#32
  | 105 => 0x33F9B800#32
  | 106 => 0xB3FDC62E#32
  | 107 => 0x340100E3#32
  | 108 => 0xB403367C#32
  | 109 => 0x3405850C#32
  | 110 => 0xB407EDD1#32
  | 111 => 0x340A721F#32
  | 112 => 0xB40D1360#32
  | 113 => 0x340FD31A#32
  | 114 => 0xB412B2ED#32
  | 115 => 0x3415B495#32
  | 116 => 0xB418D9F0#32
  | 117 => 0x341C2500#32
  | 118 => 0xB41F97EA#32
  | 119 => 0x342334FF#32
  | 120 => 0xB426FEBD#32
  | 121 => 0x342AF7D2#32
  | 122 => 0xB42F2322#32
  | 123 => 0x343383CC#32
  | 124 => 0xB4381D32#32
  | 125 => 0x343CF2FA#32
  | 126 => 0xB4420919#32
  | 127 => 0x344763DA#32
  | _ => 0#32

noncomputable abbrev lit0t0_118 (i : Nat) : BitVec 32 := match i % 128 with
  | 0 => 0x344763DA#32
  | 1 => 0xB44D07E6#32
  | 2 => 0x3452FA51#32
  | 3 => 0xB45940A1#32
  | 4 => 0x345FE0DA#32
  | 5 => 0xB466E193#32
  | 6 => 0x346E49FF#32
  | 7 => 0xB4762200#32
  | 8 => 0x347E723F#32
  | 9 => 0xB483A221#32
  | 10 => 0x34885143#32
  | 11 => 0xB48D4C4D#32
  | 12 => 0x349299A5#32
  | 13 => 0xB4984061#32
  | 14 => 0x349E485F#32
  | 15 => 0xB4A4BA5F#32
  | 16 => 0x34ABA023#32
  | 17 => 0xB4B30492#32
  | 18 => 0x34BAF3E5#32
  | 19 => 0xB4C37BD6#32
  | 20 => 0x34CCABDA#32
  | 21 => 0xB4D69568#32
  | 22 => 0x34E14C49#32
  | 23 => 0xB4ECE6F7#32
  | 24 => 0x34F97F13#32
  | 25 => 0xB50398F7#32
  | 26 => 0x350B1097#32
  | 27 => 0xB51339CD#32
  | 28 => 0x351C2B08#32
  | 29 => 0xB525FE56#32
  | 30 => 0x3530D21D#32
  | 31 => 0xB53CCA00#32
  | 32 => 0x354A0FF9#32
  | 33 => 0xB558D5BB#32
  | 34 => 0x35695670#32
  | 35 => 0xB57BD8F1#32
  | 36 => 0x3588594C#32
  | 37 => 0xB5942572#32
  | 38 => 0x35A19018#32
  | 39 => 0xB5B0E6EF#32
  | 40 => 0x35C28A3B#32
  | 41 => 0xB5D6F23A#32
  | 42 => 0x35EEB658#32
  | 43 => 0xB6054B76#32
  | 44 => 0x3615C529#32
  | 45 => 0xB6296767#32
  | 46 => 0x3641014B#32
  | 47 => 0xB65DA20C#32
  | 48 => 0x368056F2#32
  | 49 => 0xB695FBC4#32
  | 50 => 0x36B0ED61#32
  | 51 => 0xB6D29E9B#32
  | 52 => 0x36FFBDB2#32
  | 53 => 0xB692EE32#32
  | 54 => 0x391EBB1A#32
  | 55 => 0x3B12D0DF#32
  | 56 => 0x3CA0086D#32
  | 57 => 0x3DBAD58B#32
  | 58 => 0x3E6BB748#32
  | 59 => 0x3EA069FE#32
  | 60 => 0x3E6BB748#32
  | 61 => 0x3DBAD58B#32
  | 62 => 0x3CA0086D#32
  | 63 => 0x3B12D0DF#32
  | 64 => 0x391EBB1A#32
  | 65 => 0xB692EE32#32
  | 66 => 0x36FFBDB2#32
  | 67 => 0xB6D29E9B#32
  | 68 => 0x36B0ED61#32
  | 69 => 0xB695FBC4#32
  | 70 => 0x368056F2#32
  | 71 => 0xB65DA20C#32
  | 72 => 0x3641014B#32
  | 73 => 0xB6296767#32
  | 74 => 0x3615C529#32
  | 75 => 0xB6054B76#32
  | 76 => 0x35EEB658#32
  | 77 => 0xB5D6F23A#32
  | 78 => 0x35C28A3B#32
  | 79 => 0xB5B0E6EF#32
  | 80 => 0x35A19018#32
  | 81 => 0xB5942572#32
  | 82 => 0x3588594C#32
  | 83 => 0xB57BD8F1#32
  | 84 => 0x35695670#32
  | 85 => 0xB558D5BB#32
  | 86 => 0x354A0FF9#32
  | 87 => 0xB53CCA00#32
  | 88 => 0x3530D21D#32
  | 89 => 0xB525FE56#32
  | 90 => 0x351C2B08#32
  | 91 => 0xB51339CD#32
  | 92 => 0x350B1097#32
  | 93 => 0xB50398F7#32
  | 94 => 0x34F97F13#32
  | 95 => 0xB4ECE6F7#32
  | 96 => 0x34E14C49#32
  | 97 => 0xB4D69568#32
  | 98 => 0x34CCABDA#32
  | 99 => 0xB4C37BD6#32
  | 100 => 0x34BAF3E5#32
  | 101 => 0xB4B30492#32
  | 102 => 0x34ABA023#32
  | 103 => 0xB4A4BA5F#32
  | 104 => 0x349E485F#32
  | 105 => 0xB4984061#32
  | 106 => 0x349299A5#32
  | 107 => 0xB48D4C4D#32
  | 108 => 0x34885142#32
  | 109 => 0xB483A221#32
  | 110 => 0x347E723F#32
  | 111 => 0xB4762200#32
  | 112 => 0x346E49FF#32
  | 113 => 0xB466E193#32
  | 114 => 0x345FE0DA#32
  | 115 => 0xB45940A1#32
  | 116 => 0x3452FA51#32
  | 117 => 0xB44D07E6#32
  | 118 => 0x344763DA#32
  | 119 => 0xB4420919#32
  | 120 => 0x343CF2FA#32
  | 121 => 0xB4381D32#32
  | 122 => 0x343383CC#32
  | 123 => 0xB42F2322#32
  | 124 => 0x342AF7D2#32
  | 125 => 0xB426FEBD#32
  | 126 => 0x342334FF#32
  | 127 => 0xB41F97EA#32
  | _ => 0#32

noncomputable abbrev lit0t0_119 (i : Nat) : BitVec 32 := match i % 128 with
  | 0 => 0x341C2500#32
  | 1 => 0xB418D9F0#32
  | 2 => 0x3415B495#32
  | 3 => 0xB412B2ED#32
  | 4 => 0x340FD31A#32
  | 5 => 0xB40D1360#32
  | 6 => 0x340A721F#32
  | 7 => 0xB407EDD1#32
  | 8 => 0x3405850C#32
  | 9 => 0xB403367C#32
  | 10 => 0x340100E3#32
  | 11 => 0xB3FDC62E#32
  | 12 => 0x33F9B800#32
  | 13 => 0xB3F5D532#32
  | 14 => 0x33F21BD6#32
  | 15 => 0xB3EE8A1F#32
  | 16 => 0x33EB1E5A#32
  | 17 => 0xB3E7D6EF#32
  | 18 => 0x33E4B25D#32
  | 19 => 0xB3E1AF3D#32
  | 20 => 0x33DECC38#32
  | 21 => 0xB3DC0810#32
  | 22 => 0x33D96196#32
  | 23 => 0xB3D6D7AE#32
  | 24 => 0x33D4694B#32
  | 25 => 0xB3D21572#32
  | 26 => 0x33CFDB34#32
  | 27 => 0xB3CDB9B1#32
  | 28 => 0x33CBB015#32
  | 29 => 0xB3C9BD97#32
  | 30 => 0x33C7E17D#32
  | 31 => 0xB3C61B15#32
  | 32 => 0x33C469B8#32
  | 33 => 0xB3C2CCC7#32
  | 34 => 0x33C143B0#32
  | 35 => 0xB3BFCDE6#32
  | 36 => 0x33BE6AE7#32
  | 37 => 0xB3BD1A36#32
  | 38 => 0x33BBDB61#32
  | 39 => 0xB3BAADFB#32
  | 40 => 0x33B9919E#32
  | 41 => 0xB3B885EC#32
  | 42 => 0x33B78A8A#32
  | 43 => 0xB3B69F28#32
  | 44 => 0x33B5C377#32
  | 45 => 0xB3B4F732#32
  | 46 => 0x33B43A15#32
  | 47 => 0xB3B38BE5#32
  | 48 => 0x33B2EC6A#32
  | 49 => 0xB3B25B72#32
  | 50 => 0x33B1D8CF#32
  | 51 => 0xB3B16459#32
  | 52 => 0x33B0FDEA#32
  | 53 => 0xB3B0A563#32
  | 54 => 0x33B05AA9#32
  | 55 => 0xB3B01DA5#32
  | 56 => 0x33AFEE43#32
  | 57 => 0xB3AFCC75#32
  | 58 => 0x33AFB831#32
  | 59 => 0xB3AFB170#32
  | 60 => 0x33AFB831#32
  | 61 => 0xB3AFCC75#32
  | 62 => 0x33AFEE43#32
  | 63 => 0xB3B01DA5#32
  | 64 => 0x33B05AA9#32
  | 65 => 0xB3B0A563#32
  | 66 => 0x33B0FDEA#32
  | 67 => 0xB3B16459#32
  | 68 => 0x33B1D8CF#32
  | 69 => 0xB3B25B72#32
  | 70 => 0x33B2EC6A#32
  | 71 => 0xB3B38BE5#32
  | 72 => 0x33B43A15#32
  | 73 => 0xB3B4F732#32
  | 74 => 0x33B5C377#32
  | 75 => 0xB3B69F28#32
  | 76 => 0x33B78A8A#32
  | 77 => 0xB3B885EC#32
  | 78 => 0x33B9919E#32
  | 79 => 0xB3BAADFB#32
  | 80 => 0x33BBDB61#32
  | 81 => 0xB3BD1A36#32
  | 82 => 0x33BE6AE7#32
  | 83 => 0xB3BFCDE6#32
  | 84 => 0x33C143B0#32
  | 85 => 0xB3C2CCC7#32
  | 86 => 0x33C469B8#32
  | 87 => 0xB3C61B15#32
  | 88 => 0x33C7E17D#32
  | 89 => 0xB3C9BD97#32
  | 90 => 0x33CBB015#32
  | 91 => 0xB3CDB9B1#32
  | 92 => 0x33CFDB34#32
  | 93 => 0xB3D21572#32
  | 94 => 0x33D4694B#32
  | 95 => 0xB3D6D7AE#32
  | 96 => 0x33D96196#32
  | 97 => 0xB3DC0810#32
  | 98 => 0x33DECC38#32
  | 99 => 0xB3E1AF3D#32
  | 100 => 0x33E4B25D#32
  | 101 => 0xB3E7D6EF#32
  | 102 => 0x33EB1E5A#32
  | 103 => 0xB3EE8A1F#32
  | 104 => 0x33F21BD6#32
  | 105 => 0xB3F5D532#32
  | 106 => 0x33F9B800#32
  | 107 => 0xB3FDC62E#32
  | 108 => 0x340100E3#32
  | 109 => 0xB403367C#32
  | 110 => 0x3405850C#32
  | 111 => 0xB407EDD1#32
  | 112 => 0x340A721F#32
  | 113 => 0xB40D1360#32
  | 114 => 0x340FD31A#32
  | 115 => 0xB412B2ED#32
  | 116 => 0x3415B495#32
  | 117 => 0xB418D9F0#32
  | 118 => 0x341C2500#32
  | 119 => 0xB41F97EA#32
  | 120 => 0x342334FF#32
  | 121 => 0xB426FEBD#32
  | 122 => 0x342AF7D2#32
  | 123 => 0xB42F2322#32
  | 124 => 0x343383CC#32
  | 125 => 0xB4381D32#32
  | 126 => 0x343CF2FA#32
  | 127 => 0xB4420919#32
  | _ => 0#32

noncomputable abbrev lit0t0_120 (i : Nat) : BitVec 32 := match i % 128 with
  | 0 => 0xB4420919#32
  | 1 => 0x344763DA#32
  | 2 => 0xB44D07E6#32
  | 3 => 0x3452FA51#32
  | 4 => 0xB45940A1#32
  | 5 => 0x345FE0DA#32
  | 6 => 0xB466E193#32
  | 7 => 0x346E49FF#32
  | 8 => 0xB4762200#32
  | 9 => 0x347E723F#32
  | 10 => 0xB483A221#32
  | 11 => 0x34885142#32
  | 12 => 0xB48D4C4D#32
  | 13 => 0x349299A5#32
  | 14 => 0xB4984061#32
  | 15 => 0x349E485F#32
  | 16 => 0xB4A4BA5F#32
  | 17 => 0x34ABA023#32
  | 18 => 0xB4B30492#32
  | 19 => 0x34BAF3E5#32
  | 20 => 0xB4C37BD6#32
  | 21 => 0x34CCABDA#32
  | 22 => 0xB4D69568#32
  | 23 => 0x34E14C49#32
  | 24 => 0xB4ECE6F7#32
  | 25 => 0x34F97F13#32
  | 26 => 0xB50398F7#32
  | 27 => 0x350B1097#32
  | 28 => 0xB51339CD#32
  | 29 => 0x351C2B08#32
  | 30 => 0xB525FE56#32
  | 31 => 0x3530D21D#32
  | 32 => 0xB53CCA00#32
  | 33 => 0x354A0FF9#32
  | 34 => 0xB558D5BB#32
  | 35 => 0x35695670#32
  | 36 => 0xB57BD8F1#32
  | 37 => 0x3588594C#32
  | 38 => 0xB5942572#32
  | 39 => 0x35A19018#32
  | 40 => 0xB5B0E6EF#32
  | 41 => 0x35C28A3B#32
  | 42 => 0xB5D6F23A#32
  | 43 => 0x35EEB658#32
  | 44 => 0xB6054B76#32
  | 45 => 0x3615C529#32
  | 46 => 0xB6296767#32
  | 47 => 0x3641014B#32
  | 48 => 0xB65DA20C#32
  | 49 => 0x368056F2#32
  | 50 => 0xB695FBC4#32
  | 51 => 0x36B0ED61#32
  | 52 => 0xB6D29E9B#32
  | 53 => 0x36FFBDB2#32
  | 54 => 0xB692EE32#32
  | 55 => 0x391EBB1A#32
  | 56 => 0x3B12D0DF#32
  | 57 => 0x3CA0086D#32
  | 58 => 0x3DBAD58B#32
  | 59 => 0x3E6BB748#32
  | 60 => 0x3EA069FE#32
  | 61 => 0x3E6BB748#32
  | 62 => 0x3DBAD58B#32
  | 63 => 0x3CA0086D#32
  | 64 => 0x3B12D0DF#32
  | 65 => 0x391EBB1A#32
  | 66 => 0xB692EE32#32
  | 67 => 0x36FFBDB2#32
  | 68 => 0xB6D29E9B#32
  | 69 => 0x36B0ED61#32
  | 70 => 0xB695FBC4#32
  | 71 => 0x368056F2#32
  | 72 => 0xB65DA20C#32
  | 73 => 0x3641014B#32
  | 74 => 0xB6296767#32
  | 75 => 0x3615C529#32
  | 76 => 0xB6054B76#32
  | 77 => 0x35EEB658#32
  | 78 => 0xB5D6F23A#32
  | 79 => 0x35C28A3B#32
  | 80 => 0xB5B0E6EF#32
  | 81 => 0x35A19018#32
  | 82 => 0xB5942572#32
  | 83 => 0x3588594C#32
  | 84 => 0xB57BD8F1#32
  | 85 => 0x35695670#32
  | 86 => 0xB558D5BB#32
  | 87 => 0x354A0FF9#32
  | 88 => 0xB53CCA00#32
  | 89 => 0x3530D21D#32
  | 90 => 0xB525FE56#32
  | 91 => 0x351C2B08#32
  | 92 => 0xB51339CD#32
  | 93 => 0x350B1097#32
  | 94 => 0xB50398F7#32
  | 95 => 0x34F97F13#32
  | 96 => 0xB4ECE6F7#32
  | 97 => 0x34E14C49#32
  | 98 => 0xB4D69568#32
  | 99 => 0x34CCABDA#32
  | 100 => 0xB4C37BD6#32
  | 101 => 0x34BAF3E5#32
  | 102 => 0xB4B30492#32
  | 103 => 0x34ABA023#32
  | 104 => 0xB4A4BA5F#32
  | 105 => 0x349E485F#32
  | 106 => 0xB4984061#32
  | 107 => 0x349299A5#32
  | 108 => 0xB48D4C4D#32
  | 109 => 0x34885142#32
  | 110 => 0xB483A221#32
  | 111 => 0x347E723F#32
  | 112 => 0xB4762200#32
  | 113 => 0x346E49FF#32
  | 114 => 0xB466E193#32
  | 115 => 0x345FE0DA#32
  | 116 => 0xB45940A1#32
  | 117 => 0x3452FA51#32
  | 118 => 0xB44D07E6#32
  | 119 => 0x344763DA#32
  | 120 => 0xB4420919#32
  | 121 => 0x343CF2FA#32
  | 122 => 0xB4381D32#32
  | 123 => 0x343383CC#32
  | 124 => 0xB42F2322#32
  | 125 => 0x342AF7D2#32
  | 126 => 0xB426FEBD#32
  | 127 => 0x342334FF#32
  | _ => 0#32

noncomputable abbrev lit0t0_121 (i : Nat) : BitVec 32 := match i % 128 with
  | 0 => 0xB41F97EA#32
  | 1 => 0x341C2500#32
  | 2 => 0xB418D9F0#32
  | 3 => 0x3415B495#32
  | 4 => 0xB412B2ED#32
  | 5 => 0x340FD31A#32
  | 6 => 0xB40D1360#32
  | 7 => 0x340A721F#32
  | 8 => 0xB407EDD1#32
  | 9 => 0x3405850C#32
  | 10 => 0xB403367C#32
  | 11 => 0x340100E3#32
  | 12 => 0xB3FDC62E#32
  | 13 => 0x33F9B800#32
  | 14 => 0xB3F5D532#32
  | 15 => 0x33F21BD6#32
  | 16 => 0xB3EE8A1F#32
  | 17 => 0x33EB1E5A#32
  | 18 => 0xB3E7D6EF#32
  | 19 => 0x33E4B25D#32
  | 20 => 0xB3E1AF3D#32
  | 21 => 0x33DECC38#32
  | 22 => 0xB3DC0810#32
  | 23 => 0x33D96196#32
  | 24 => 0xB3D6D7AE#32
  | 25 => 0x33D4694B#32
  | 26 => 0xB3D21572#32
  | 27 => 0x33CFDB34#32
  | 28 => 0xB3CDB9B1#32
  | 29 => 0x33CBB015#32
  | 30 => 0xB3C9BD97#32
  | 31 => 0x33C7E17D#32
  | 32 => 0xB3C61B15#32
  | 33 => 0x33C469B8#32
  | 34 => 0xB3C2CCC7#32
  | 35 => 0x33C143B0#32
  | 36 => 0xB3BFCDE6#32
  | 37 => 0x33BE6AE7#32
  | 38 => 0xB3BD1A36#32
  | 39 => 0x33BBDB61#32
  | 40 => 0xB3BAADFB#32
  | 41 => 0x33B9919E#32
  | 42 => 0xB3B885EC#32
  | 43 => 0x33B78A8A#32
  | 44 => 0xB3B69F28#32
  | 45 => 0x33B5C377#32
  | 46 => 0xB3B4F732#32
  | 47 => 0x33B43A15#32
  | 48 => 0xB3B38BE5#32
  | 49 => 0x33B2EC6A#32
  | 50 => 0xB3B25B72#32
  | 51 => 0x33B1D8CF#32
  | 52 => 0xB3B16459#32
  | 53 => 0x33B0FDEA#32
  | 54 => 0xB3B0A563#32
  | 55 => 0x33B05AA9#32
  | 56 => 0xB3B01DA5#32
  | 57 => 0x33AFEE43#32
  | 58 => 0xB3AFCC75#32
  | 59 => 0x33AFB831#32
  | 60 => 0xB3AFB170#32
  | 61 => 0x33AFB831#32
  | 62 => 0xB3AFCC75#32
  | 63 => 0x33AFEE43#32
  | 64 => 0xB3B01DA5#32
  | 65 => 0x33B05AA9#32
  | 66 => 0xB3B0A563#32
  | 67 => 0x33B0FDEA#32
  | 68 => 0xB3B16459#32
  | 69 => 0x33B1D8CF#32
  | 70 => 0xB3B25B72#32
  | 71 => 0x33B2EC6A#32
  | 72 => 0xB3B38BE5#32
  | 73 => 0x33B43A15#32
  | 74 => 0xB3B4F732#32
  | 75 => 0x33B5C377#32
  | 76 => 0xB3B69F28#32
  | 77 => 0x33B78A8A#32
  | 78 => 0xB3B885EC#32
  | 79 => 0x33B9919E#32
  | 80 => 0xB3BAADFB#32
  | 81 => 0x33BBDB61#32
  | 82 => 0xB3BD1A36#32
  | 83 => 0x33BE6AE7#32
  | 84 => 0xB3BFCDE6#32
  | 85 => 0x33C143B0#32
  | 86 => 0xB3C2CCC7#32
  | 87 => 0x33C469B8#32
  | 88 => 0xB3C61B15#32
  | 89 => 0x33C7E17D#32
  | 90 => 0xB3C9BD97#32
  | 91 => 0x33CBB015#32
  | 92 => 0xB3CDB9B1#32
  | 93 => 0x33CFDB34#32
  | 94 => 0xB3D21572#32
  | 95 => 0x33D4694B#32
  | 96 => 0xB3D6D7AE#32
  | 97 => 0x33D96196#32
  | 98 => 0xB3DC0810#32
  | 99 => 0x33DECC38#32
  | 100 => 0xB3E1AF3D#32
  | 101 => 0x33E4B25D#32
  | 102 => 0xB3E7D6EF#32
  | 103 => 0x33EB1E5A#32
  | 104 => 0xB3EE8A1F#32
  | 105 => 0x33F21BD6#32
  | 106 => 0xB3F5D532#32
  | 107 => 0x33F9B800#32
  | 108 => 0xB3FDC62E#32
  | 109 => 0x340100E3#32
  | 110 => 0xB403367C#32
  | 111 => 0x3405850C#32
  | 112 => 0xB407EDD1#32
  | 113 => 0x340A721F#32
  | 114 => 0xB40D1360#32
  | 115 => 0x340FD31A#32
  | 116 => 0xB412B2ED#32
  | 117 => 0x3415B495#32
  | 118 => 0xB418D9F0#32
  | 119 => 0x341C2500#32
  | 120 => 0xB41F97EA#32
  | 121 => 0x342334FF#32
  | 122 => 0xB426FEBD#32
  | 123 => 0x342AF7D2#32
  | 124 => 0xB42F2322#32
  | 125 => 0x343383CC#32
  | 126 => 0xB4381D32#32
  | 127 => 0x343CF2FA#32
  | _ => 0#32

noncomputable abbrev lit0t0_122 (i : Nat) : BitVec 32 := match i % 128 with
  | 0 => 0x343CF2FA#32
  | 1 => 0xB4420919#32
  | 2 => 0x344763DA#32
  | 3 => 0xB44D07E6#32
  | 4 => 0x3452FA51#32
  | 5 => 0xB45940A1#32
  | 6 => 0x345FE0DA#32
  | 7 => 0xB466E193#32
  | 8 => 0x346E49FF#32
  | 9 => 0xB4762200#32
  | 10 => 0x347E723F#32
  | 11 => 0xB483A221#32
  | 12 => 0x34885142#32
  | 13 => 0xB48D4C4D#32
  | 14 => 0x349299A5#32
  | 15 => 0xB4984061#32
  | 16 => 0x349E485F#32
  | 17 => 0xB4A4BA5F#32
  | 18 => 0x34ABA023#32
  | 19 => 0xB4B30492#32
  | 20 => 0x34BAF3E5#32
  | 21 => 0xB4C37BD6#32
  | 22 => 0x34CCABDA#32
  | 23 => 0xB4D69568#32
  | 24 => 0x34E14C49#32
  | 25 => 0xB4ECE6F7#32
  | 26 => 0x34F97F13#32
  | 27 => 0xB50398F7#32
  | 28 => 0x350B1097#32
  | 29 => 0xB51339CD#32
  | 30 => 0x351C2B08#32
  | 31 => 0xB525FE56#32
  | 32 => 0x3530D21D#32
  | 33 => 0xB53CCA00#32
  | 34 => 0x354A0FF9#32
  | 35 => 0xB558D5BB#32
  | 36 => 0x35695670#32
  | 37 => 0xB57BD8F1#32
  | 38 => 0x3588594C#32
  | 39 => 0xB5942572#32
  | 40 => 0x35A19018#32
  | 41 => 0xB5B0E6EF#32
  | 42 => 0x35C28A3B#32
  | 43 => 0xB5D6F23A#32
  | 44 => 0x35EEB658#32
  | 45 => 0xB6054B76#32
  | 46 => 0x3615C529#32
  | 47 => 0xB6296767#32
  | 48 => 0x3641014B#32
  | 49 => 0xB65DA20C#32
  | 50 => 0x368056F2#32
  | 51 => 0xB695FBC4#32
  | 52 => 0x36B0ED61#32
  | 53 => 0xB6D29E9B#32
  | 54 => 0x36FFBDB2#32
  | 55 => 0xB692EE32#32
  | 56 => 0x391EBB1A#32
  | 57 => 0x3B12D0DF#32
  | 58 => 0x3CA0086D#32
  | 59 => 0x3DBAD58B#32
  | 60 => 0x3E6BB748#32
  | 61 => 0x3EA069FE#32
  | 62 => 0x3E6BB748#32
  | 63 => 0x3DBAD58B#32
  | 64 => 0x3CA0086D#32
  | 65 => 0x3B12D0DF#32
  | 66 => 0x391EBB1A#32
  | 67 => 0xB692EE32#32
  | 68 => 0x36FFBDB2#32
  | 69 => 0xB6D29E9B#32
  | 70 => 0x36B0ED61#32
  | 71 => 0xB695FBC4#32
  | 72 => 0x368056F2#32
  | 73 => 0xB65DA20C#32
  | 74 => 0x3641014B#32
  | 75 => 0xB6296767#32
  | 76 => 0x3615C529#32
  | 77 => 0xB6054B76#32
  | 78 => 0x35EEB658#32
  | 79 => 0xB5D6F23A#32
  | 80 => 0x35C28A3B#32
  | 81 => 0xB5B0E6EF#32
  | 82 => 0x35A19018#32
  | 83 => 0xB5942572#32
  | 84 => 0x3588594C#32
  | 85 => 0xB57BD8F1#32
  | 86 => 0x35695670#32
  | 87 => 0xB558D5BB#32
  | 88 => 0x354A0FF9#32
  | 89 => 0xB53CCA00#32
  | 90 => 0x3530D21D#32
  | 91 => 0xB525FE56#32
  | 92 => 0x351C2B08#32
  | 93 => 0xB51339CD#32
  | 94 => 0x350B1097#32
  | 95 => 0xB50398F7#32
  | 96 => 0x34F97F13#32
  | 97 => 0xB4ECE6F7#32
  | 98 => 0x34E14C49#32
  | 99 => 0xB4D69568#32
  | 100 => 0x34CCABDA#32
  | 101 => 0xB4C37BD6#32
  | 102 => 0x34BAF3E5#32
  | 103 => 0xB4B30492#32
  | 104 => 0x34ABA023#32
  | 105 => 0xB4A4BA5F#32
  | 106 => 0x349E485F#32
  | 107 => 0xB4984061#32
  | 108 => 0x349299A5#32
  | 109 => 0xB48D4C4D#32
  | 110 => 0x34885142#32
  | 111 => 0xB483A221#32
  | 112 => 0x347E723F#32
  | 113 => 0xB4762200#32
  | 114 => 0x346E49FF#32
  | 115 => 0xB466E193#32
  | 116 => 0x345FE0DA#32
  | 117 => 0xB45940A1#32
  | 118 => 0x3452FA51#32
  | 119 => 0xB44D07E6#32
  | 120 => 0x344763DA#32
  | 121 => 0xB4420919#32
  | 122 => 0x343CF2FA#32
  | 123 => 0xB4381D32#32
  | 124 => 0x343383CC#32
  | 125 => 0xB42F2322#32
  | 126 => 0x342AF7D2#32
  | 127 => 0xB426FEBD#32
  | _ => 0#32

noncomputable abbrev lit0t0_123 (i : Nat) : BitVec 32 := match i % 128 with
  | 0 => 0x342334FF#32
  | 1 => 0xB41F97EA#32
  | 2 => 0x341C2500#32
  | 3 => 0xB418D9F0#32
  | 4 => 0x3415B495#32
  | 5 => 0xB412B2ED#32
  | 6 => 0x340FD31A#32
  | 7 => 0xB40D1360#32
  | 8 => 0x340A721F#32
  | 9 => 0xB407EDD1#32
  | 10 => 0x3405850C#32
  | 11 => 0xB403367C#32
  | 12 => 0x340100E3#32
  | 13 => 0xB3FDC62E#32
  | 14 => 0x33F9B800#32
  | 15 => 0xB3F5D532#32
  | 16 => 0x33F21BD6#32
  | 17 => 0xB3EE8A1F#32
  | 18 => 0x33EB1E5A#32
  | 19 => 0xB3E7D6EF#32
  | 20 => 0x33E4B25D#32
  | 21 => 0xB3E1AF3D#32
  | 22 => 0x33DECC38#32
  | 23 => 0xB3DC0810#32
  | 24 => 0x33D96196#32
  | 25 => 0xB3D6D7AE#32
  | 26 => 0x33D4694B#32
  | 27 => 0xB3D21572#32
  | 28 => 0x33CFDB34#32
  | 29 => 0xB3CDB9B1#32
  | 30 => 0x33CBB015#32
  | 31 => 0xB3C9BD97#32
  | 32 => 0x33C7E17D#32
  | 33 => 0xB3C61B15#32
  | 34 => 0x33C469B8#32
  | 35 => 0xB3C2CCC7#32
  | 36 => 0x33C143B0#32
  | 37 => 0xB3BFCDE6#32
  | 38 => 0x33BE6AE7#32
  | 39 => 0xB3BD1A36#32
  | 40 => 0x33BBDB61#32
  | 41 => 0xB3BAADFB#32
  | 42 => 0x33B9919E#32
  | 43 => 0xB3B885EC#32
  | 44 => 0x33B78A8A#32
  | 45 => 0xB3B69F28#32
  | 46 => 0x33B5C377#32
  | 47 => 0xB3B4F732#32
  | 48 => 0x33B43A15#32
  | 49 => 0xB3B38BE5#32
  | 50 => 0x33B2EC6A#32
  | 51 => 0xB3B25B72#32
  | 52 => 0x33B1D8CF#32
  | 53 => 0xB3B16459#32
  | 54 => 0x33B0FDEA#32
  | 55 => 0xB3B0A563#32
  | 56 => 0x33B05AA9#32
  | 57 => 0xB3B01DA5#32
  | 58 => 0x33AFEE43#32
  | 59 => 0xB3AFCC75#32
  | 60 => 0x33AFB831#32
  | 61 => 0xB3AFB170#32
  | 62 => 0x33AFB831#32
  | 63 => 0xB3AFCC75#32
  | 64 => 0x33AFEE43#32
  | 65 => 0xB3B01DA5#32
  | 66 => 0x33B05AA9#32
  | 67 => 0xB3B0A563#32
  | 68 => 0x33B0FDEA#32
  | 69 => 0xB3B16459#32
  | 70 => 0x33B1D8CF#32
  | 71 => 0xB3B25B72#32
  | 72 => 0x33B2EC6A#32
  | 73 => 0xB3B38BE5#32
  | 74 => 0x33B43A15#32
  | 75 => 0xB3B4F732#32
  | 76 => 0x33B5C377#32
  | 77 => 0xB3B69F28#32
  | 78 => 0x33B78A8A#32
  | 79 => 0xB3B885EC#32
  | 80 => 0x33B9919E#32
  | 81 => 0xB3BAADFB#32
  | 82 => 0x33BBDB61#32
  | 83 => 0xB3BD1A36#32
  | 84 => 0x33BE6AE7#32
  | 85 => 0xB3BFCDE6#32
  | 86 => 0x33C143B0#32
  | 87 => 0xB3C2CCC7#32
  | 88 => 0x33C469B8#32
  | 89 => 0xB3C61B15#32
  | 90 => 0x33C7E17D#32
  | 91 => 0xB3C9BD97#32
  | 92 => 0x33CBB015#32
  | 93 => 0xB3CDB9B1#32
  | 94 => 0x33CFDB34#32
  | 95 => 0xB3D21572#32
  | 96 => 0x33D4694B#32
  | 97 => 0xB3D6D7AE#32
  | 98 => 0x33D96196#32
  | 99 => 0xB3DC0810#32
  | 100 => 0x33DECC38#32
  | 101 => 0xB3E1AF3D#32
  | 102 => 0x33E4B25D#32
  | 103 => 0xB3E7D6EF#32
  | 104 => 0x33EB1E5A#32
  | 105 => 0xB3EE8A1F#32
  | 106 => 0x33F21BD6#32
  | 107 => 0xB3F5D532#32
  | 108 => 0x33F9B800#32
  | 109 => 0xB3FDC62E#32
  | 110 => 0x340100E3#32
  | 111 => 0xB403367C#32
  | 112 => 0x3405850C#32
  | 113 => 0xB407EDD1#32
  | 114 => 0x340A721F#32
  | 115 => 0xB40D1360#32
  | 116 => 0x340FD31A#32
  | 117 => 0xB412B2ED#32
  | 118 => 0x3415B495#32
  | 119 => 0xB418D9F0#32
  | 120 => 0x341C2500#32
  | 121 => 0xB41F97EA#32
  | 122 => 0x342334FF#32
  | 123 => 0xB426FEBD#32
  | 124 => 0x342AF7D2#32
  | 125 => 0xB42F2322#32
  | 126 => 0x343383CC#32
  | 127 => 0xB4381D32#32
  | _ => 0#32

noncomputable abbrev lit0t0_124 (i : Nat) : BitVec 32 := match i % 128 with
  | 0 => 0xB4381D32#32
  | 1 => 0x343CF2FA#32
  | 2 => 0xB4420919#32
  | 3 => 0x344763DA#32
  | 4 => 0xB44D07E6#32
  | 5 => 0x3452FA51#32
  | 6 => 0xB45940A1#32
  | 7 => 0x345FE0DA#32
  | 8 => 0xB466E193#32
  | 9 => 0x346E49FF#32
  | 10 => 0xB4762200#32
  | 11 => 0x347E723F#32
  | 12 => 0xB483A221#32
  | 13 => 0x34885142#32
  | 14 => 0xB48D4C4D#32
  | 15 => 0x349299A5#32
  | 16 => 0xB4984061#32
  | 17 => 0x349E485F#32
  | 18 => 0xB4A4BA5F#32
  | 19 => 0x34ABA023#32
  | 20 => 0xB4B30492#32
  | 21 => 0x34BAF3E5#32
  | 22 => 0xB4C37BD6#32
  | 23 => 0x34CCABDA#32
  | 24 => 0xB4D69568#32
  | 25 => 0x34E14C49#32
  | 26 => 0xB4ECE6F7#32
  | 27 => 0x34F97F13#32
  | 28 => 0xB50398F7#32
  | 29 => 0x350B1097#32
  | 30 => 0xB51339CD#32
  | 31 => 0x351C2B08#32
  | 32 => 0xB525FE56#32
  | 33 => 0x3530D21D#32
  | 34 => 0xB53CCA00#32
  | 35 => 0x354A0FF9#32
  | 36 => 0xB558D5BB#32
  | 37 => 0x35695670#32
  | 38 => 0xB57BD8F1#32
  | 39 => 0x3588594C#32
  | 40 => 0xB5942572#32
  | 41 => 0x35A19018#32
  | 42 => 0xB5B0E6EF#32
  | 43 => 0x35C28A3B#32
  | 44 => 0xB5D6F23A#32
  | 45 => 0x35EEB658#32
  | 46 => 0xB6054B76#32
  | 47 => 0x3615C529#32
  | 48 => 0xB6296767#32
  | 49 => 0x3641014B#32
  | 50 => 0xB65DA20C#32
  | 51 => 0x368056F2#32
  | 52 => 0xB695FBC4#32
  | 53 => 0x36B0ED61#32
  | 54 => 0xB6D29E9B#32
  | 55 => 0x36FFBDB2#32
  | 56 => 0xB692EE32#32
  | 57 => 0x391EBB1A#32
  | 58 => 0x3B12D0DF#32
  | 59 => 0x3CA0086D#32
  | 60 => 0x3DBAD58B#32
  | 61 => 0x3E6BB748#32
  | 62 => 0x3EA069FE#32
  | 63 => 0x3E6BB748#32
  | 64 => 0x3DBAD58B#32
  | 65 => 0x3CA0086D#32
  | 66 => 0x3B12D0DF#32
  | 67 => 0x391EBB1A#32
  | 68 => 0xB692EE32#32
  | 69 => 0x36FFBDB2#32
  | 70 => 0xB6D29E9B#32
  | 71 => 0x36B0ED61#32
  | 72 => 0xB695FBC4#32
  | 73 => 0x368056F2#32
  | 74 => 0xB65DA20C#32
  | 75 => 0x3641014B#32
  | 76 => 0xB6296767#32
  | 77 => 0x3615C529#32
  | 78 => 0xB6054B76#32
  | 79 => 0x35EEB658#32
  | 80 => 0xB5D6F23A#32
  | 81 => 0x35C28A3B#32
  | 82 => 0xB5B0E6EF#32
  | 83 => 0x35A19018#32
  | 84 => 0xB5942572#32
  | 85 => 0x3588594C#32
  | 86 => 0xB57BD8F1#32
  | 87 => 0x35695670#32
  | 88 => 0xB558D5BB#32
  | 89 => 0x354A0FF9#32
  | 90 => 0xB53CCA00#32
  | 91 => 0x3530D21D#32
  | 92 => 0xB525FE56#32
  | 93 => 0x351C2B08#32
  | 94 => 0xB51339CD#32
  | 95 => 0x350B1097#32
  | 96 => 0xB50398F7#32
  | 97 => 0x34F97F13#32
  | 98 => 0xB4ECE6F7#32
  | 99 => 0x34E14C49#32
  | 100 => 0xB4D69568#32
  | 101 => 0x34CCABDA#32
  | 102 => 0xB4C37BD6#32
  | 103 => 0x34BAF3E5#32
  | 104 => 0xB4B30492#32
  | 105 => 0x34ABA023#32
  | 106 => 0xB4A4BA5F#32
  | 107 => 0x349E485F#32
  | 108 => 0xB4984061#32
  | 109 => 0x349299A5#32
  | 110 => 0xB48D4C4D#32
  | 111 => 0x34885143#32
  | 112 => 0xB483A221#32
  | 113 => 0x347E723F#32
  | 114 => 0xB4762200#32
  | 115 => 0x346E49FF#32
  | 116 => 0xB466E193#32
  | 117 => 0x345FE0DA#32
  | 118 => 0xB45940A1#32
  | 119 => 0x3452FA51#32
  | 120 => 0xB44D07E6#32
  | 121 => 0x344763DA#32
  | 122 => 0xB4420919#32
  | 123 => 0x343CF2FA#32
  | 124 => 0xB4381D32#32
  | 125 => 0x343383CC#32
  | 126 => 0xB42F2322#32
  | 127 => 0x342AF7D2#32
  | _ => 0#32

noncomputable abbrev lit0t0_125 (i : Nat) : BitVec 32 := match i % 128 with
  | 0 => 0xB426FEBD#32
  | 1 => 0x342334FF#32
  | 2 => 0xB41F97EA#32
  | 3 => 0x341C2500#32
  | 4 => 0xB418D9F0#32
  | 5 => 0x3415B495#32
  | 6 => 0xB412B2ED#32
  | 7 => 0x340FD31A#32
  | 8 => 0xB40D1360#32
  | 9 => 0x340A721F#32
  | 10 => 0xB407EDD1#32
  | 11 => 0x3405850C#32
  | 12 => 0xB403367C#32
  | 13 => 0x340100E3#32
  | 14 => 0xB3FDC62E#32
  | 15 => 0x33F9B800#32
  | 16 => 0xB3F5D532#32
  | 17 => 0x33F21BD6#32
  | 18 => 0xB3EE8A1F#32
  | 19 => 0x33EB1E5A#32
  | 20 => 0xB3E7D6EF#32
  | 21 => 0x33E4B25D#32
  | 22 => 0xB3E1AF3D#32
  | 23 => 0x33DECC38#32
  | 24 => 0xB3DC0810#32
  | 25 => 0x33D96196#32
  | 26 => 0xB3D6D7AE#32
  | 27 => 0x33D4694B#32
  | 28 => 0xB3D21572#32
  | 29 => 0x33CFDB34#32
  | 30 => 0xB3CDB9B1#32
  | 31 => 0x33CBB015#32
  | 32 => 0xB3C9BD97#32
  | 33 => 0x33C7E17D#32
  | 34 => 0xB3C61B15#32
  | 35 => 0x33C469B8#32
  | 36 => 0xB3C2CCC7#32
  | 37 => 0x33C143B0#32
  | 38 => 0xB3BFCDE6#32
  | 39 => 0x33BE6AE7#32
  | 40 => 0xB3BD1A36#32
  | 41 => 0x33BBDB61#32
  | 42 => 0xB3BAADFB#32
  | 43 => 0x33B9919E#32
  | 44 => 0xB3B885EC#32
  | 45 => 0x33B78A8A#32
  | 46 => 0xB3B69F28#32
  | 47 => 0x33B5C377#32
  | 48 => 0xB3B4F732#32
  | 49 => 0x33B43A15#32
  | 50 => 0xB3B38BE5#32
  | 51 => 0x33B2EC6A#32
  | 52 => 0xB3B25B72#32
  | 53 => 0x33B1D8CF#32
  | 54 => 0xB3B16459#32
  | 55 => 0x33B0FDEA#32
  | 56 => 0xB3B0A563#32
  | 57 => 0x33B05AA9#32
  | 58 => 0xB3B01DA5#32
  | 59 => 0x33AFEE43#32
  | 60 => 0xB3AFCC75#32
  | 61 => 0x33AFB831#32
  | 62 => 0xB3AFB170#32
  | 63 => 0x33AFB831#32
  | 64 => 0xB3AFCC75#32
  | 65 => 0x33AFEE43#32
  | 66 => 0xB3B01DA5#32
  | 67 => 0x33B05AA9#32
  | 68 => 0xB3B0A563#32
  | 69 => 0x33B0FDEA#32
  | 70 => 0xB3B16459#32
  | 71 => 0x33B1D8CF#32
  | 72 => 0xB3B25B72#32
  | 73 => 0x33B2EC6A#32
  | 74 => 0xB3B38BE5#32
  | 75 => 0x33B43A15#32
  | 76 => 0xB3B4F732#32
  | 77 => 0x33B5C377#32
  | 78 => 0xB3B69F28#32
  | 79 => 0x33B78A8A#32
  | 80 => 0xB3B885EC#32
  | 81 => 0x33B9919E#32
  | 82 => 0xB3BAADFB#32
  | 83 => 0x33BBDB61#32
  | 84 => 0xB3BD1A36#32
  | 85 => 0x33BE6AE7#32
  | 86 => 0xB3BFCDE6#32
  | 87 => 0x33C143B0#32
  | 88 => 0xB3C2CCC7#32
  | 89 => 0x33C469B8#32
  | 90 => 0xB3C61B15#32
  | 91 => 0x33C7E17D#32
  | 92 => 0xB3C9BD97#32
  | 93 => 0x33CBB015#32
  | 94 => 0xB3CDB9B1#32
  | 95 => 0x33CFDB34#32
  | 96 => 0xB3D21572#32
  | 97 => 0x33D4694B#32
  | 98 => 0xB3D6D7AE#32
  | 99 => 0x33D96196#32
  | 100 => 0xB3DC0810#32
  | 101 => 0x33DECC38#32
  | 102 => 0xB3E1AF3D#32
  | 103 => 0x33E4B25D#32
  | 104 => 0xB3E7D6EF#32
  | 105 => 0x33EB1E5A#32
  | 106 => 0xB3EE8A1F#32
  | 107 => 0x33F21BD6#32
  | 108 => 0xB3F5D532#32
  | 109 => 0x33F9B800#32
  | 110 => 0xB3FDC62E#32
  | 111 => 0x340100E3#32
  | 112 => 0xB403367C#32
  | 113 => 0x3405850C#32
  | 114 => 0xB407EDD1#32
  | 115 => 0x340A721F#32
  | 116 => 0xB40D1360#32
  | 117 => 0x340FD31A#32
  | 118 => 0xB412B2ED#32
  | 119 => 0x3415B495#32
  | 120 => 0xB418D9F0#32
  | 121 => 0x341C2500#32
  | 122 => 0xB41F97EA#32
  | 123 => 0x342334FF#32
  | 124 => 0xB426FEBD#32
  | 125 => 0x342AF7D2#32
  | 126 => 0xB42F2322#32
  | 127 => 0x343383CC#32
  | _ => 0#32

noncomputable abbrev lit0t0_126 (i : Nat) : BitVec 32 := match i % 128 with
  | 0 => 0x343383CC#32
  | 1 => 0xB4381D32#32
  | 2 => 0x343CF2FA#32
  | 3 => 0xB4420919#32
  | 4 => 0x344763DA#32
  | 5 => 0xB44D07E6#32
  | 6 => 0x3452FA51#32
  | 7 => 0xB45940A1#32
  | 8 => 0x345FE0DA#32
  | 9 => 0xB466E193#32
  | 10 => 0x346E49FF#32
  | 11 => 0xB4762200#32
  | 12 => 0x347E723F#32
  | 13 => 0xB483A221#32
  | 14 => 0x34885143#32
  | 15 => 0xB48D4C4D#32
  | 16 => 0x349299A5#32
  | 17 => 0xB4984061#32
  | 18 => 0x349E485F#32
  | 19 => 0xB4A4BA5F#32
  | 20 => 0x34ABA023#32
  | 21 => 0xB4B30492#32
  | 22 => 0x34BAF3E5#32
  | 23 => 0xB4C37BD6#32
  | 24 => 0x34CCABDA#32
  | 25 => 0xB4D69568#32
  | 26 => 0x34E14C49#32
  | 27 => 0xB4ECE6F7#32
  | 28 => 0x34F97F13#32
  | 29 => 0xB50398F7#32
  | 30 => 0x350B1097#32
  | 31 => 0xB51339CD#32
  | 32 => 0x351C2B08#32
  | 33 => 0xB525FE56#32
  | 34 => 0x3530D21D#32
  | 35 => 0xB53CCA00#32
  | 36 => 0x354A0FF9#32
  | 37 => 0xB558D5BB#32
  | 38 => 0x35695670#32
  | 39 => 0xB57BD8F1#32
  | 40 => 0x3588594C#32
  | 41 => 0xB5942572#32
  | 42 => 0x35A19018#32
  | 43 => 0xB5B0E6EF#32
  | 44 => 0x35C28A3B#32
  | 45 => 0xB5D6F23A#32
  | 46 => 0x35EEB658#32
  | 47 => 0xB6054B76#32
  | 48 => 0x3615C529#32
  | 49 => 0xB6296767#32
  | 50 => 0x3641014B#32
  | 51 => 0xB65DA20C#32
  | 52 => 0x368056F2#32
  | 53 => 0xB695FBC4#32
  | 54 => 0x36B0ED61#32
  | 55 => 0xB6D29E9B#32
  | 56 => 0x36FFBDB2#32
  | 57 => 0xB692EE32#32
  | 58 => 0x391EBB1A#32
  | 59 => 0x3B12D0DF#32
  | 60 => 0x3CA0086D#32
  | 61 => 0x3DBAD58B#32
  | 62 => 0x3E6BB748#32
  | 63 => 0x3EA069FE#32
  | 64 => 0x3E6BB748#32
  | 65 => 0x3DBAD58B#32
  | 66 => 0x3CA0086D#32
  | 67 => 0x3B12D0DF#32
  | 68 => 0x391EBB1A#32
  | 69 => 0xB692EE32#32
  | 70 => 0x36FFBDB2#32
  | 71 => 0xB6D29E9B#32
  | 72 => 0x36B0ED61#32
  | 73 => 0xB695FBC4#32
  | 74 => 0x368056F2#32
  | 75 => 0xB65DA20C#32
  | 76 => 0x3641014B#32
  | 77 => 0xB6296767#32
  | 78 => 0x3615C529#32
  | 79 => 0xB6054B76#32
  | 80 => 0x35EEB658#32
  | 81 => 0xB5D6F23A#32
  | 82 => 0x35C28A3B#32
  | 83 => 0xB5B0E6EF#32
  | 84 => 0x35A19018#32
  | 85 => 0xB5942572#32
  | 86 => 0x3588594C#32
  | 87 => 0xB57BD8F1#32
  | 88 => 0x35695670#32
  | 89 => 0xB558D5BB#32
  | 90 => 0x354A0FF9#32
  | 91 => 0xB53CCA00#32
  | 92 => 0x3530D21D#32
  | 93 => 0xB525FE56#32
  | 94 => 0x351C2B08#32
  | 95 => 0xB51339CD#32
  | 96 => 0x350B1097#32
  | 97 => 0xB50398F7#32
  | 98 => 0x34F97F13#32
  | 99 => 0xB4ECE6F7#32
  | 100 => 0x34E14C49#32
  | 101 => 0xB4D69568#32
  | 102 => 0x34CCABDA#32
  | 103 => 0xB4C37BD6#32
  | 104 => 0x34BAF3E5#32
  | 105 => 0xB4B30492#32
  | 106 => 0x34ABA023#32
  | 107 => 0xB4A4BA5F#32
  | 108 => 0x349E485F#32
  | 109 => 0xB4984061#32
  | 110 => 0x349299A5#32
  | 111 => 0xB48D4C4D#32
  | 112 => 0x34885143#32
  | 113 => 0xB483A221#32
  | 114 => 0x347E723F#32
  | 115 => 0xB4762200#32
  | 116 => 0x346E49FF#32
  | 117 => 0xB466E193#32
  | 118 => 0x345FE0DA#32
  | 119 => 0xB45940A1#32
  | 120 => 0x3452FA51#32
  | 121 => 0xB44D07E6#32
  | 122 => 0x344763DA#32
  | 123 => 0xB4420919#32
  | 124 => 0x343CF2FA#32
  | 125 => 0xB4381D32#32
  | 126 => 0x343383CC#32
  | 127 => 0xB42F2322#32
  | _ => 0#32

noncomputable abbrev lit0t0_127 (i : Nat) : BitVec 32 := match i % 128 with
  | 0 => 0x342AF7D2#32
  | 1 => 0xB426FEBD#32
  | 2 => 0x342334FF#32
  | 3 => 0xB41F97EA#32
  | 4 => 0x341C2500#32
  | 5 => 0xB418D9F0#32
  | 6 => 0x3415B495#32
  | 7 => 0xB412B2ED#32
  | 8 => 0x340FD31A#32
  | 9 => 0xB40D1360#32
  | 10 => 0x340A721F#32
  | 11 => 0xB407EDD1#32
  | 12 => 0x3405850C#32
  | 13 => 0xB403367C#32
  | 14 => 0x340100E3#32
  | 15 => 0xB3FDC62E#32
  | 16 => 0x33F9B800#32
  | 17 => 0xB3F5D532#32
  | 18 => 0x33F21BD6#32
  | 19 => 0xB3EE8A1F#32
  | 20 => 0x33EB1E5A#32
  | 21 => 0xB3E7D6EF#32
  | 22 => 0x33E4B25D#32
  | 23 => 0xB3E1AF3D#32
  | 24 => 0x33DECC38#32
  | 25 => 0xB3DC0810#32
  | 26 => 0x33D96196#32
  | 27 => 0xB3D6D7AE#32
  | 28 => 0x33D4694B#32
  | 29 => 0xB3D21572#32
  | 30 => 0x33CFDB34#32
  | 31 => 0xB3CDB9B1#32
  | 32 => 0x33CBB015#32
  | 33 => 0xB3C9BD97#32
  | 34 => 0x33C7E17D#32
  | 35 => 0xB3C61B15#32
  | 36 => 0x33C469B8#32
  | 37 => 0xB3C2CCC7#32
  | 38 => 0x33C143B0#32
  | 39 => 0xB3BFCDE6#32
  | 40 => 0x33BE6AE7#32
  | 41 => 0xB3BD1A36#32
  | 42 => 0x33BBDB61#32
  | 43 => 0xB3BAADFB#32
  | 44 => 0x33B9919E#32
  | 45 => 0xB3B885EC#32
  | 46 => 0x33B78A8A#32
  | 47 => 0xB3B69F28#32
  | 48 => 0x33B5C377#32
  | 49 => 0xB3B4F732#32
  | 50 => 0x33B43A15#32
  | 51 => 0xB3B38BE5#32
  | 52 => 0x33B2EC6A#32
  | 53 => 0xB3B25B72#32
  | 54 => 0x33B1D8CF#32
  | 55 => 0xB3B16459#32
  | 56 => 0x33B0FDEA#32
  | 57 => 0xB3B0A563#32
  | 58 => 0x33B05AA9#32
  | 59 => 0xB3B01DA5#32
  | 60 => 0x33AFEE43#32
  | 61 => 0xB3AFCC75#32
  | 62 => 0x33AFB831#32
  | 63 => 0xB3AFB170#32
  | 64 => 0x33AFB831#32
  | 65 => 0xB3AFCC75#32
  | 66 => 0x33AFEE43#32
  | 67 => 0xB3B01DA5#32
  | 68 => 0x33B05AA9#32
  | 69 => 0xB3B0A563#32
  | 70 => 0x33B0FDEA#32
  | 71 => 0xB3B16459#32
  | 72 => 0x33B1D8CF#32
  | 73 => 0xB3B25B72#32
  | 74 => 0x33B2EC6A#32
  | 75 => 0xB3B38BE5#32
  | 76 => 0x33B43A15#32
  | 77 => 0xB3B4F732#32
  | 78 => 0x33B5C377#32
  | 79 => 0xB3B69F28#32
  | 80 => 0x33B78A8A#32
  | 81 => 0xB3B885EC#32
  | 82 => 0x33B9919E#32
  | 83 => 0xB3BAADFB#32
  | 84 => 0x33BBDB61#32
  | 85 => 0xB3BD1A36#32
  | 86 => 0x33BE6AE7#32
  | 87 => 0xB3BFCDE6#32
  | 88 => 0x33C143B0#32
  | 89 => 0xB3C2CCC7#32
  | 90 => 0x33C469B8#32
  | 91 => 0xB3C61B15#32
  | 92 => 0x33C7E17D#32
  | 93 => 0xB3C9BD97#32
  | 94 => 0x33CBB015#32
  | 95 => 0xB3CDB9B1#32
  | 96 => 0x33CFDB34#32
  | 97 => 0xB3D21572#32
  | 98 => 0x33D4694B#32
  | 99 => 0xB3D6D7AE#32
  | 100 => 0x33D96196#32
  | 101 => 0xB3DC0810#32
  | 102 => 0x33DECC38#32
  | 103 => 0xB3E1AF3D#32
  | 104 => 0x33E4B25D#32
  | 105 => 0xB3E7D6EF#32
  | 106 => 0x33EB1E5A#32
  | 107 => 0xB3EE8A1F#32
  | 108 => 0x33F21BD6#32
  | 109 => 0xB3F5D532#32
  | 110 => 0x33F9B800#32
  | 111 => 0xB3FDC62E#32
  | 112 => 0x340100E3#32
  | 113 => 0xB403367C#32
  | 114 => 0x3405850C#32
  | 115 => 0xB407EDD1#32
  | 116 => 0x340A721F#32
  | 117 => 0xB40D1360#32
  | 118 => 0x340FD31A#32
  | 119 => 0xB412B2ED#32
  | 120 => 0x3415B495#32
  | 121 => 0xB418D9F0#32
  | 122 => 0x341C2500#32
  | 123 => 0xB41F97EA#32
  | 124 => 0x342334FF#32
  | 125 => 0xB426FEBD#32
  | 126 => 0x342AF7D2#32
  | 127 => 0xB42F2322#32
  | _ => 0#32

noncomputable abbrev lit0t0_128 (i : Nat) : BitVec 32 := match i % 128 with
  | 0 => 0xB42F2322#32
  | 1 => 0x343383CC#32
  | 2 => 0xB4381D32#32
  | 3 => 0x343CF2FA#32
  | 4 => 0xB4420919#32
  | 5 => 0x344763DA#32
  | 6 => 0xB44D07E6#32
  | 7 => 0x3452FA51#32
  | 8 => 0xB45940A1#32
  | 9 => 0x345FE0DA#32
  | 10 => 0xB466E193#32
  | 11 => 0x346E49FF#32
  | 12 => 0xB4762200#32
  | 13 => 0x347E723F#32
  | 14 => 0xB483A221#32
  | 15 => 0x34885143#32
  | 16 => 0xB48D4C4D#32
  | 17 => 0x349299A5#32
  | 18 => 0xB4984061#32
  | 19 => 0x349E485F#32
  | 20 => 0xB4A4BA5F#32
  | 21 => 0x34ABA023#32
  | 22 => 0xB4B30492#32
  | 23 => 0x34BAF3E5#32
  | 24 => 0xB4C37BD6#32
  | 25 => 0x34CCABDA#32
  | 26 => 0xB4D69568#32
  | 27 => 0x34E14C49#32
  | 28 => 0xB4ECE6F7#32
  | 29 => 0x34F97F13#32
  | 30 => 0xB50398F7#32
  | 31 => 0x350B1097#32
  | 32 => 0xB51339CD#32
  | 33 => 0x351C2B08#32
  | 34 => 0xB525FE56#32
  | 35 => 0x3530D21D#32
  | 36 => 0xB53CCA00#32
  | 37 => 0x354A0FF9#32
  | 38 => 0xB558D5BB#32
  | 39 => 0x35695670#32
  | 40 => 0xB57BD8F1#32
  | 41 => 0x3588594C#32
  | 42 => 0xB5942572#32
  | 43 => 0x35A19018#32
  | 44 => 0xB5B0E6EF#32
  | 45 => 0x35C28A3B#32
  | 46 => 0xB5D6F23A#32
  | 47 => 0x35EEB658#32
  | 48 => 0xB6054B76#32
  | 49 => 0x3615C529#32
  | 50 => 0xB6296767#32
  | 51 => 0x3641014B#32
  | 52 => 0xB65DA20C#32
  | 53 => 0x368056F2#32
  | 54 => 0xB695FBC4#32
  | 55 => 0x36B0ED61#32
  | 56 => 0xB6D29E9B#32
  | 57 => 0x36FFBDB2#32
  | 58 => 0xB692EE32#32
  | 59 => 0x391EBB1A#32
  | 60 => 0x3B12D0DF#32
  | 61 => 0x3CA0086D#32
  | 62 => 0x3DBAD58B#32
  | 63 => 0x3E6BB748#32
  | 64 => 0x3EA069FE#32
  | 65 => 0x3E6BB748#32
  | 66 => 0x3DBAD58B#32
  | 67 => 0x3CA0086D#32
  | 68 => 0x3B12D0DF#32
  | 69 => 0x391EBB1A#32
  | 70 => 0xB692EE32#32
  | 71 => 0x36FFBDB2#32
  | 72 => 0xB6D29E9B#32
  | 73 => 0x36B0ED61#32
  | 74 => 0xB695FBC4#32
  | 75 => 0x368056F2#32
  | 76 => 0xB65DA20C#32
  | 77 => 0x3641014B#32
  | 78 => 0xB6296767#32
  | 79 => 0x3615C529#32
  | 80 => 0xB6054B76#32
  | 81 => 0x35EEB658#32
  | 82 => 0xB5D6F23A#32
  | 83 => 0x35C28A3B#32
  | 84 => 0xB5B0E6EF#32
  | 85 => 0x35A19018#32
  | 86 => 0xB5942572#32
  | 87 => 0x3588594C#32
  | 88 => 0xB57BD8F1#32
  | 89 => 0x35695670#32
  | 90 => 0xB558D5BB#32
  | 91 => 0x354A0FF9#32
  | 92 => 0xB53CCA00#32
  | 93 => 0x3530D21D#32
  | 94 => 0xB525FE56#32
  | 95 => 0x351C2B08#32
  | 96 => 0xB51339CD#32
  | 97 => 0x350B1097#32
  | 98 => 0xB50398F7#32
  | 99 => 0x34F97F13#32
  | 100 => 0xB4ECE6F7#32
  | 101 => 0x34E14C49#32
  | 102 => 0xB4D69568#32
  | 103 => 0x34CCABDA#32
  | 104 => 0xB4C37BD6#32
  | 105 => 0x34BAF3E5#32
  | 106 => 0xB4B30492#32
  | 107 => 0x34ABA023#32
  | 108 => 0xB4A4BA5F#32
  | 109 => 0x349E485F#32
  | 110 => 0xB4984061#32
  | 111 => 0x349299A5#32
  | 112 => 0xB48D4C4D#32
  | 113 => 0x34885143#32
  | 114 => 0xB483A221#32
  | 115 => 0x347E723F#32
  | 116 => 0xB4762200#32
  | 117 => 0x346E49FF#32
  | 118 => 0xB466E193#32
  | 119 => 0x345FE0DA#32
  | 120 => 0xB45940A1#32
  | 121 => 0x3452FA51#32
  | 122 => 0xB44D07E6#32
  | 123 => 0x344763DA#32
  | 124 => 0xB4420919#32
  | 125 => 0x343CF2FA#32
  | 126 => 0xB4381D32#32
  | 127 => 0x343383CC#32
  | _ => 0#32

noncomputable abbrev lit0t0_129 (i : Nat) : BitVec 32 := match i % 128 with
  | 0 => 0xB42F2322#32
  | 1 => 0x342AF7D2#32
  | 2 => 0xB426FEBD#32
  | 3 => 0x342334FF#32
  | 4 => 0xB41F97EA#32
  | 5 => 0x341C2500#32
  | 6 => 0xB418D9F0#32
  | 7 => 0x3415B495#32
  | 8 => 0xB412B2ED#32
  | 9 => 0x340FD31A#32
  | 10 => 0xB40D1360#32
  | 11 => 0x340A721F#32
  | 12 => 0xB407EDD1#32
  | 13 => 0x3405850C#32
  | 14 => 0xB403367C#32
  | 15 => 0x340100E3#32
  | 16 => 0xB3FDC62E#32
  | 17 => 0x33F9B800#32
  | 18 => 0xB3F5D532#32
  | 19 => 0x33F21BD6#32
  | 20 => 0xB3EE8A1F#32
  | 21 => 0x33EB1E5A#32
  | 22 => 0xB3E7D6EF#32
  | 23 => 0x33E4B25D#32
  | 24 => 0xB3E1AF3D#32
  | 25 => 0x33DECC38#32
  | 26 => 0xB3DC0810#32
  | 27 => 0x33D96196#32
  | 28 => 0xB3D6D7AE#32
  | 29 => 0x33D4694B#32
  | 30 => 0xB3D21572#32
  | 31 => 0x33CFDB34#32
  | 32 => 0xB3CDB9B1#32
  | 33 => 0x33CBB015#32
  | 34 => 0xB3C9BD97#32
  | 35 => 0x33C7E17D#32
  | 36 => 0xB3C61B15#32
  | 37 => 0x33C469B8#32
  | 38 => 0xB3C2CCC7#32
  | 39 => 0x33C143B0#32
  | 40 => 0xB3BFCDE6#32
  | 41 => 0x33BE6AE7#32
  | 42 => 0xB3BD1A36#32
  | 43 => 0x33BBDB61#32
  | 44 => 0xB3BAADFB#32
  | 45 => 0x33B9919E#32
  | 46 => 0xB3B885EC#32
  | 47 => 0x33B78A8A#32
  | 48 => 0xB3B69F28#32
  | 49 => 0x33B5C377#32
  | 50 => 0xB3B4F732#32
  | 51 => 0x33B43A15#32
  | 52 => 0xB3B38BE5#32
  | 53 => 0x33B2EC6A#32
  | 54 => 0xB3B25B72#32
  | 55 => 0x33B1D8CF#32
  | 56 => 0xB3B16459#32
  | 57 => 0x33B0FDEA#32
  | 58 => 0xB3B0A563#32
  | 59 => 0x33B05AA9#32
  | 60 => 0xB3B01DA5#32
  | 61 => 0x33AFEE43#32
  | 62 => 0xB3AFCC75#32
  | 63 => 0x33AFB831#32
  | 64 => 0xB3AFB170#32
  | 65 => 0x33AFB831#32
  | 66 => 0xB3AFCC75#32
  | 67 => 0x33AFEE43#32
  | 68 => 0xB3B01DA5#32
  | 69 => 0x33B05AA9#32
  | 70 => 0xB3B0A563#32
  | 71 => 0x33B0FDEA#32
  | 72 => 0xB3B16459#32
  | 73 => 0x33B1D8CF#32
  | 74 => 0xB3B25B72#32
  | 75 => 0x33B2EC6A#32
  | 76 => 0xB3B38BE5#32
  | 77 => 0x33B43A15#32
  | 78 => 0xB3B4F732#32
  | 79 => 0x33B5C377#32
  | 80 => 0xB3B69F28#32
  | 81 => 0x33B78A8A#32
  | 82 => 0xB3B885EC#32
  | 83 => 0x33B9919E#32
  | 84 => 0xB3BAADFB#32
  | 85 => 0x33BBDB61#32
  | 86 => 0xB3BD1A36#32
  | 87 => 0x33BE6AE7#32
  | 88 => 0xB3BFCDE6#32
  | 89 => 0x33C143B0#32
  | 90 => 0xB3C2CCC7#32
  | 91 => 0x33C469B8#32
  | 92 => 0xB3C61B15#32
  | 93 => 0x33C7E17D#32
  | 94 => 0xB3C9BD97#32
  | 95 => 0x33CBB015#32
  | 96 => 0xB3CDB9B1#32
  | 97 => 0x33CFDB34#32
  | 98 => 0xB3D21572#32
  | 99 => 0x33D4694B#32
  | 100 => 0xB3D6D7AE#32
  | 101 => 0x33D96196#32
  | 102 => 0xB3DC0810#32
  | 103 => 0x33DECC38#32
  | 104 => 0xB3E1AF3D#32
  | 105 => 0x33E4B25D#32
  | 106 => 0xB3E7D6EF#32
  | 107 => 0x33EB1E5A#32
  | 108 => 0xB3EE8A1F#32
  | 109 => 0x33F21BD6#32
  | 110 => 0xB3F5D532#32
  | 111 => 0x33F9B800#32
  | 112 => 0xB3FDC62E#32
  | 113 => 0x340100E3#32
  | 114 => 0xB403367C#32
  | 115 => 0x3405850C#32
  | 116 => 0xB407EDD1#32
  | 117 => 0x340A721F#32
  | 118 => 0xB40D1360#32
  | 119 => 0x340FD31A#32
  | 120 => 0xB412B2ED#32
  | 121 => 0x3415B495#32
  | 122 => 0xB418D9F0#32
  | 123 => 0x341C2500#32
  | 124 => 0xB41F97EA#32
  | 125 => 0x342334FF#32
  | 126 => 0xB426FEBD#32
  | 127 => 0x342AF7D2#32
  | _ => 0#32

noncomputable abbrev lit0t0_130 (i : Nat) : BitVec 32 := match i % 128 with
  | 0 => 0x342AF7D2#32
  | 1 => 0xB42F2322#32
  | 2 => 0x343383CC#32
  | 3 => 0xB4381D32#32
  | 4 => 0x343CF2FA#32
  | 5 => 0xB4420919#32
  | 6 => 0x344763DA#32
  | 7 => 0xB44D07E6#32
  | 8 => 0x3452FA51#32
  | 9 => 0xB45940A1#32
  | 10 => 0x345FE0DA#32
  | 11 => 0xB466E193#32
  | 12 => 0x346E49FF#32
  | 13 => 0xB4762200#32
  | 14 => 0x347E723F#32
  | 15 => 0xB483A221#32
  | 16 => 0x34885143#32
  | 17 => 0xB48D4C4D#32
  | 18 => 0x349299A5#32
  | 19 => 0xB4984061#32
  | 20 => 0x349E485F#32
  | 21 => 0xB4A4BA5F#32
  | 22 => 0x34ABA023#32
  | 23 => 0xB4B30492#32
  | 24 => 0x34BAF3E5#32
  | 25 => 0xB4C37BD6#32
  | 26 => 0x34CCABDA#32
  | 27 => 0xB4D69568#32
  | 28 => 0x34E14C49#32
  | 29 => 0xB4ECE6F7#32
  | 30 => 0x34F97F13#32
  | 31 => 0xB50398F7#32
  | 32 => 0x350B1097#32
  | 33 => 0xB51339CD#32
  | 34 => 0x351C2B08#32
  | 35 => 0xB525FE56#32
  | 36 => 0x3530D21D#32
  | 37 => 0xB53CCA00#32
  | 38 => 0x354A0FF9#32
  | 39 => 0xB558D5BB#32
  | 40 => 0x35695670#32
  | 41 => 0xB57BD8F1#32
  | 42 => 0x3588594C#32
  | 43 => 0xB5942572#32
  | 44 => 0x35A19018#32
  | 45 => 0xB5B0E6EF#32
  | 46 => 0x35C28A3B#32
  | 47 => 0xB5D6F23A#32
  | 48 => 0x35EEB658#32
  | 49 => 0xB6054B76#32
  | 50 => 0x3615C529#32
  | 51 => 0xB6296767#32
  | 52 => 0x3641014B#32
  | 53 => 0xB65DA20C#32
  | 54 => 0x368056F2#32
  | 55 => 0xB695FBC4#32
  | 56 => 0x36B0ED61#32
  | 57 => 0xB6D29E9B#32
  | 58 => 0x36FFBDB2#32
  | 59 => 0xB692EE32#32
  | 60 => 0x391EBB1A#32
  | 61 => 0x3B12D0DF#32
  | 62 => 0x3CA0086D#32
  | 63 => 0x3DBAD58B#32
  | 64 => 0x3E6BB748#32
  | 65 => 0x3EA069FE#32
  | 66 => 0x3E6BB748#32
  | 67 => 0x3DBAD58B#32
  | 68 => 0x3CA0086D#32
  | 69 => 0x3B12D0DF#32
  | 70 => 0x391EBB1A#32
  | 71 => 0xB692EE32#32
  | 72 => 0x36FFBDB2#32
  | 73 => 0xB6D29E9B#32
  | 74 => 0x36B0ED61#32
  | 75 => 0xB695FBC4#32
  | 76 => 0x368056F2#32
  | 77 => 0xB65DA20C#32
  | 78 => 0x3641014B#32
  | 79 => 0xB6296767#32
  | 80 => 0x3615C529#32
  | 81 => 0xB6054B76#32
  | 82 => 0x35EEB658#32
  | 83 => 0xB5D6F23A#32
  | 84 => 0x35C28A3B#32
  | 85 => 0xB5B0E6EF#32
  | 86 => 0x35A19018#32
  | 87 => 0xB5942572#32
  | 88 => 0x3588594C#32
  | 89 => 0xB57BD8F1#32
  | 90 => 0x35695670#32
  | 91 => 0xB558D5BB#32
  | 92 => 0x354A0FF9#32
  | 93 => 0xB53CCA00#32
  | 94 => 0x3530D21D#32
  | 95 => 0xB525FE56#32
  | 96 => 0x351C2B08#32
  | 97 => 0xB51339CD#32
  | 98 => 0x350B1097#32
  | 99 => 0xB50398F7#32
  | 100 => 0x34F97F13#32
  | 101 => 0xB4ECE6F7#32
  | 102 => 0x34E14C49#32
  | 103 => 0xB4D69568#32
  | 104 => 0x34CCABDA#32
  | 105 => 0xB4C37BD6#32
  | 106 => 0x34BAF3E5#32
  | 107 => 0xB4B30492#32
  | 108 => 0x34ABA023#32
  | 109 => 0xB4A4BA5F#32
  | 110 => 0x349E485F#32
  | 111 => 0xB4984061#32
  | 112 => 0x349299A5#32
  | 113 => 0xB48D4C4D#32
  | 114 => 0x34885143#32
  | 115 => 0xB483A221#32
  | 116 => 0x347E723F#32
  | 117 => 0xB4762200#32
  | 118 => 0x346E49FF#32
  | 119 => 0xB466E193#32
  | 120 => 0x345FE0DA#32
  | 121 => 0xB45940A1#32
  | 122 => 0x3452FA51#32
  | 123 => 0xB44D07E6#32
  | 124 => 0x344763DA#32
  | 125 => 0xB4420919#32
  | 126 => 0x343CF2FA#32
  | 127 => 0xB4381D32#32
  | _ => 0#32

noncomputable abbrev lit0t0_131 (i : Nat) : BitVec 32 := match i % 128 with
  | 0 => 0x343383CC#32
  | 1 => 0xB42F2322#32
  | 2 => 0x342AF7D2#32
  | 3 => 0xB426FEBD#32
  | 4 => 0x342334FF#32
  | 5 => 0xB41F97EA#32
  | 6 => 0x341C2500#32
  | 7 => 0xB418D9F0#32
  | 8 => 0x3415B495#32
  | 9 => 0xB412B2ED#32
  | 10 => 0x340FD31A#32
  | 11 => 0xB40D1360#32
  | 12 => 0x340A721F#32
  | 13 => 0xB407EDD1#32
  | 14 => 0x3405850C#32
  | 15 => 0xB403367C#32
  | 16 => 0x340100E3#32
  | 17 => 0xB3FDC62E#32
  | 18 => 0x33F9B800#32
  | 19 => 0xB3F5D532#32
  | 20 => 0x33F21BD6#32
  | 21 => 0xB3EE8A1F#32
  | 22 => 0x33EB1E5A#32
  | 23 => 0xB3E7D6EF#32
  | 24 => 0x33E4B25D#32
  | 25 => 0xB3E1AF3D#32
  | 26 => 0x33DECC38#32
  | 27 => 0xB3DC0810#32
  | 28 => 0x33D96196#32
  | 29 => 0xB3D6D7AE#32
  | 30 => 0x33D4694B#32
  | 31 => 0xB3D21572#32
  | 32 => 0x33CFDB34#32
  | 33 => 0xB3CDB9B1#32
  | 34 => 0x33CBB015#32
  | 35 => 0xB3C9BD97#32
  | 36 => 0x33C7E17D#32
  | 37 => 0xB3C61B15#32
  | 38 => 0x33C469B8#32
  | 39 => 0xB3C2CCC7#32
  | 40 => 0x33C143B0#32
  | 41 => 0xB3BFCDE6#32
  | 42 => 0x33BE6AE7#32
  | 43 => 0xB3BD1A36#32
  | 44 => 0x33BBDB61#32
  | 45 => 0xB3BAADFB#32
  | 46 => 0x33B9919E#32
  | 47 => 0xB3B885EC#32
  | 48 => 0x33B78A8A#32
  | 49 => 0xB3B69F28#32
  | 50 => 0x33B5C377#32
  | 51 => 0xB3B4F732#32
  | 52 => 0x33B43A15#32
  | 53 => 0xB3B38BE5#32
  | 54 => 0x33B2EC6A#32
  | 55 => 0xB3B25B72#32
  | 56 => 0x33B1D8CF#32
  | 57 => 0xB3B16459#32
  | 58 => 0x33B0FDEA#32
  | 59 => 0xB3B0A563#32
  | 60 => 0x33B05AA9#32
  | 61 => 0xB3B01DA5#32
  | 62 => 0x33AFEE43#32
  | 63 => 0xB3AFCC75#32
  | 64 => 0x33AFB831#32
  | 65 => 0xB3AFB170#32
  | 66 => 0x33AFB831#32
  | 67 => 0xB3AFCC75#32
  | 68 => 0x33AFEE43#32
  | 69 => 0xB3B01DA5#32
  | 70 => 0x33B05AA9#32
  | 71 => 0xB3B0A563#32
  | 72 => 0x33B0FDEA#32
  | 73 => 0xB3B16459#32
  | 74 => 0x33B1D8CF#32
  | 75 => 0xB3B25B72#32
  | 76 => 0x33B2EC6A#32
  | 77 => 0xB3B38BE5#32
  | 78 => 0x33B43A15#32
  | 79 => 0xB3B4F732#32
  | 80 => 0x33B5C377#32
  | 81 => 0xB3B69F28#32
  | 82 => 0x33B78A8A#32
  | 83 => 0xB3B885EC#32
  | 84 => 0x33B9919E#32
  | 85 => 0xB3BAADFB#32
  | 86 => 0x33BBDB61#32
  | 87 => 0xB3BD1A36#32
  | 88 => 0x33BE6AE7#32
  | 89 => 0xB3BFCDE6#32
  | 90 => 0x33C143B0#32
  | 91 => 0xB3C2CCC7#32
  | 92 => 0x33C469B8#32
  | 93 => 0xB3C61B15#32
  | 94 => 0x33C7E17D#32
  | 95 => 0xB3C9BD97#32
  | 96 => 0x33CBB015#32
  | 97 => 0xB3CDB9B1#32
  | 98 => 0x33CFDB34#32
  | 99 => 0xB3D21572#32
  | 100 => 0x33D4694B#32
  | 101 => 0xB3D6D7AE#32
  | 102 => 0x33D96196#32
  | 103 => 0xB3DC0810#32
  | 104 => 0x33DECC38#32
  | 105 => 0xB3E1AF3D#32
  | 106 => 0x33E4B25D#32
  | 107 => 0xB3E7D6EF#32
  | 108 => 0x33EB1E5A#32
  | 109 => 0xB3EE8A1F#32
  | 110 => 0x33F21BD6#32
  | 111 => 0xB3F5D532#32
  | 112 => 0x33F9B800#32
  | 113 => 0xB3FDC62E#32
  | 114 => 0x340100E3#32
  | 115 => 0xB403367C#32
  | 116 => 0x3405850C#32
  | 117 => 0xB407EDD1#32
  | 118 => 0x340A721F#32
  | 119 => 0xB40D1360#32
  | 120 => 0x340FD31A#32
  | 121 => 0xB412B2ED#32
  | 122 => 0x3415B495#32
  | 123 => 0xB418D9F0#32
  | 124 => 0x341C2500#32
  | 125 => 0xB41F97EA#32
  | 126 => 0x342334FF#32
  | 127 => 0xB426FEBD#32
  | _ => 0#32

noncomputable abbrev lit0t0_132 (i : Nat) : BitVec 32 := match i % 128 with
  | 0 => 0xB426FEBD#32
  | 1 => 0x342AF7D2#32
  | 2 => 0xB42F2322#32
  | 3 => 0x343383CC#32
  | 4 => 0xB4381D32#32
  | 5 => 0x343CF2FA#32
  | 6 => 0xB4420919#32
  | 7 => 0x344763DA#32
  | 8 => 0xB44D07E6#32
  | 9 => 0x3452FA51#32
  | 10 => 0xB45940A1#32
  | 11 => 0x345FE0DA#32
  | 12 => 0xB466E193#32
  | 13 => 0x346E49FF#32
  | 14 => 0xB4762200#32
  | 15 => 0x347E723F#32
  | 16 => 0xB483A221#32
  | 17 => 0x34885142#32
  | 18 => 0xB48D4C4D#32
  | 19 => 0x349299A5#32
  | 20 => 0xB4984061#32
  | 21 => 0x349E485F#32
  | 22 => 0xB4A4BA5F#32
  | 23 => 0x34ABA023#32
  | 24 => 0xB4B30492#32
  | 25 => 0x34BAF3E5#32
  | 26 => 0xB4C37BD6#32
  | 27 => 0x34CCABDA#32
  | 28 => 0xB4D69568#32
  | 29 => 0x34E14C49#32
  | 30 => 0xB4ECE6F7#32
  | 31 => 0x34F97F13#32
  | 32 => 0xB50398F7#32
  | 33 => 0x350B1097#32
  | 34 => 0xB51339CD#32
  | 35 => 0x351C2B08#32
  | 36 => 0xB525FE56#32
  | 37 => 0x3530D21D#32
  | 38 => 0xB53CCA00#32
  | 39 => 0x354A0FF9#32
  | 40 => 0xB558D5BB#32
  | 41 => 0x35695670#32
  | 42 => 0xB57BD8F1#32
  | 43 => 0x3588594C#32
  | 44 => 0xB5942572#32
  | 45 => 0x35A19018#32
  | 46 => 0xB5B0E6EF#32
  | 47 => 0x35C28A3B#32
  | 48 => 0xB5D6F23A#32
  | 49 => 0x35EEB658#32
  | 50 => 0xB6054B76#32
  | 51 => 0x3615C529#32
  | 52 => 0xB6296767#32
  | 53 => 0x3641014B#32
  | 54 => 0xB65DA20C#32
  | 55 => 0x368056F2#32
  | 56 => 0xB695FBC4#32
  | 57 => 0x36B0ED61#32
  | 58 => 0xB6D29E9B#32
  | 59 => 0x36FFBDB2#32
  | 60 => 0xB692EE32#32
  | 61 => 0x391EBB1A#32
  | 62 => 0x3B12D0DF#32
  | 63 => 0x3CA0086D#32
  | 64 => 0x3DBAD58B#32
  | 65 => 0x3E6BB748#32
  | 66 => 0x3EA069FE#32
  | 67 => 0x3E6BB748#32
  | 68 => 0x3DBAD58B#32
  | 69 => 0x3CA0086D#32
  | 70 => 0x3B12D0DF#32
  | 71 => 0x391EBB1A#32
  | 72 => 0xB692EE32#32
  | 73 => 0x36FFBDB2#32
  | 74 => 0xB6D29E9B#32
  | 75 => 0x36B0ED61#32
  | 76 => 0xB695FBC4#32
  | 77 => 0x368056F2#32
  | 78 => 0xB65DA20C#32
  | 79 => 0x3641014B#32
  | 80 => 0xB6296767#32
  | 81 => 0x3615C529#32
  | 82 => 0xB6054B76#32
  | 83 => 0x35EEB658#32
  | 84 => 0xB5D6F23A#32
  | 85 => 0x35C28A3B#32
  | 86 => 0xB5B0E6EF#32
  | 87 => 0x35A19018#32
  | 88 => 0xB5942572#32
  | 89 => 0x3588594C#32
  | 90 => 0xB57BD8F1#32
  | 91 => 0x35695670#32
  | 92 => 0xB558D5BB#32
  | 93 => 0x354A0FF9#32
  | 94 => 0xB53CCA00#32
  | 95 => 0x3530D21D#32
  | 96 => 0xB525FE56#32
  | 97 => 0x351C2B08#32
  | 98 => 0xB51339CD#32
  | 99 => 0x350B1097#32
  | 100 => 0xB50398F7#32
  | 101 => 0x34F97F13#32
  | 102 => 0xB4ECE6F7#32
  | 103 => 0x34E14C49#32
  | 104 => 0xB4D69568#32
  | 105 => 0x34CCABDA#32
  | 106 => 0xB4C37BD6#32
  | 107 => 0x34BAF3E5#32
  | 108 => 0xB4B30492#32
  | 109 => 0x34ABA023#32
  | 110 => 0xB4A4BA5F#32
  | 111 => 0x349E485F#32
  | 112 => 0xB4984061#32
  | 113 => 0x349299A5#32
  | 114 => 0xB48D4C4D#32
  | 115 => 0x34885143#32
  | 116 => 0xB483A221#32
  | 117 => 0x347E723F#32
  | 118 => 0xB4762200#32
  | 119 => 0x346E49FF#32
  | 120 => 0xB466E193#32
  | 121 => 0x345FE0DA#32
  | 122 => 0xB45940A1#32
  | 123 => 0x3452FA51#32
  | 124 => 0xB44D07E6#32
  | 125 => 0x344763DA#32
  | 126 => 0xB4420919#32
  | 127 => 0x343CF2FA#32
  | _ => 0#32

noncomputable abbrev lit0t0_133 (i : Nat) : BitVec 32 := match i % 128 with
  | 0 => 0xB4381D32#32
  | 1 => 0x343383CC#32
  | 2 => 0xB42F2322#32
  | 3 => 0x342AF7D2#32
  | 4 => 0xB426FEBD#32
  | 5 => 0x342334FF#32
  | 6 => 0xB41F97EA#32
  | 7 => 0x341C2500#32
  | 8 => 0xB418D9F0#32
  | 9 => 0x3415B495#32
  | 10 => 0xB412B2ED#32
  | 11 => 0x340FD31A#32
  | 12 => 0xB40D1360#32
  | 13 => 0x340A721F#32
  | 14 => 0xB407EDD1#32
  | 15 => 0x3405850C#32
  | 16 => 0xB403367C#32
  | 17 => 0x340100E3#32
  | 18 => 0xB3FDC62E#32
  | 19 => 0x33F9B800#32
  | 20 => 0xB3F5D532#32
  | 21 => 0x33F21BD6#32
  | 22 => 0xB3EE8A1F#32
  | 23 => 0x33EB1E5A#32
  | 24 => 0xB3E7D6EF#32
  | 25 => 0x33E4B25D#32
  | 26 => 0xB3E1AF3D#32
  | 27 => 0x33DECC38#32
  | 28 => 0xB3DC0810#32
  | 29 => 0x33D96196#32
  | 30 => 0xB3D6D7AE#32
  | 31 => 0x33D4694B#32
  | 32 => 0xB3D21572#32
  | 33 => 0x33CFDB34#32
  | 34 => 0xB3CDB9B1#32
  | 35 => 0x33CBB015#32
  | 36 => 0xB3C9BD97#32
  | 37 => 0x33C7E17D#32
  | 38 => 0xB3C61B15#32
  | 39 => 0x33C469B8#32
  | 40 => 0xB3C2CCC7#32
  | 41 => 0x33C143B0#32
  | 42 => 0xB3BFCDE6#32
  | 43 => 0x33BE6AE7#32
  | 44 => 0xB3BD1A36#32
  | 45 => 0x33BBDB61#32
  | 46 => 0xB3BAADFB#32
  | 47 => 0x33B9919E#32
  | 48 => 0xB3B885EC#32
  | 49 => 0x33B78A8A#32
  | 50 => 0xB3B69F28#32
  | 51 => 0x33B5C377#32
  | 52 => 0xB3B4F732#32
  | 53 => 0x33B43A15#32
  | 54 => 0xB3B38BE5#32
  | 55 => 0x33B2EC6A#32
  | 56 => 0xB3B25B72#32
  | 57 => 0x33B1D8CF#32
  | 58 => 0xB3B16459#32
  | 59 => 0x33B0FDEA#32
  | 60 => 0xB3B0A563#32
  | 61 => 0x33B05AA9#32
  | 62 => 0xB3B01DA5#32
  | 63 => 0x33AFEE43#32
  | 64 => 0xB3AFCC75#32
  | 65 => 0x33AFB831#32
  | 66 => 0xB3AFB170#32
  | 67 => 0x33AFB831#32
  | 68 => 0xB3AFCC75#32
  | 69 => 0x33AFEE43#32
  | 70 => 0xB3B01DA5#32
  | 71 => 0x33B05AA9#32
  | 72 => 0xB3B0A563#32
  | 73 => 0x33B0FDEA#32
  | 74 => 0xB3B16459#32
  | 75 => 0x33B1D8CF#32
  | 76 => 0xB3B25B72#32
  | 77 => 0x33B2EC6A#32
  | 78 => 0xB3B38BE5#32
  | 79 => 0x33B43A15#32
  | 80 => 0xB3B4F732#32
  | 81 => 0x33B5C377#32
  | 82 => 0xB3B69F28#32
  | 83 => 0x33B78A8A#32
  | 84 => 0xB3B885EC#32
  | 85 => 0x33B9919E#32
  | 86 => 0xB3BAADFB#32
  | 87 => 0x33BBDB61#32
  | 88 => 0xB3BD1A36#32
  | 89 => 0x33BE6AE7#32
  | 90 => 0xB3BFCDE6#32
  | 91 => 0x33C143B0#32
  | 92 => 0xB3C2CCC7#32
  | 93 => 0x33C469B8#32
  | 94 => 0xB3C61B15#32
  | 95 => 0x33C7E17D#32
  | 96 => 0xB3C9BD97#32
  | 97 => 0x33CBB015#32
  | 98 => 0xB3CDB9B1#32
  | 99 => 0x33CFDB34#32
  | 100 => 0xB3D21572#32
  | 101 => 0x33D4694B#32
  | 102 => 0xB3D6D7AE#32
  | 103 => 0x33D96196#32
  | 104 => 0xB3DC0810#32
  | 105 => 0x33DECC38#32
  | 106 => 0xB3E1AF3D#32
  | 107 => 0x33E4B25D#32
  | 108 => 0xB3E7D6EF#32
  | 109 => 0x33EB1E5A#32
  | 110 => 0xB3EE8A1F#32
  | 111 => 0x33F21BD6#32
  | 112 => 0xB3F5D532#32
  | 113 => 0x33F9B800#32
  | 114 => 0xB3FDC62E#32
  | 115 => 0x340100E3#32
  | 116 => 0xB403367C#32
  | 117 => 0x3405850C#32
  | 118 => 0xB407EDD1#32
  | 119 => 0x340A721F#32
  | 120 => 0xB40D1360#32
  | 121 => 0x340FD31A#32
  | 122 => 0xB412B2ED#32
  | 123 => 0x3415B495#32
  | 124 => 0xB418D9F0#32
  | 125 => 0x341C2500#32
  | 126 => 0xB41F97EA#32
  | 127 => 0x342334FF#32
  | _ => 0#32

noncomputable abbrev lit0t0_134 (i : Nat) : BitVec 32 := match i % 128 with
  | 0 => 0x342334FF#32
  | 1 => 0xB426FEBD#32
  | 2 => 0x342AF7D2#32
  | 3 => 0xB42F2322#32
  | 4 => 0x343383CC#32
  | 5 => 0xB4381D32#32
  | 6 => 0x343CF2FA#32
  | 7 => 0xB4420919#32
  | 8 => 0x344763DA#32
  | 9 => 0xB44D07E6#32
  | 10 => 0x3452FA51#32
  | 11 => 0xB45940A1#32
  | 12 => 0x345FE0DA#32
  | 13 => 0xB466E193#32
  | 14 => 0x346E49FF#32
  | 15 => 0xB4762200#32
  | 16 => 0x347E723F#32
  | 17 => 0xB483A221#32
  | 18 => 0x34885143#32
  | 19 => 0xB48D4C4D#32
  | 20 => 0x349299A5#32
  | 21 => 0xB4984061#32
  | 22 => 0x349E485F#32
  | 23 => 0xB4A4BA5F#32
  | 24 => 0x34ABA023#32
  | 25 => 0xB4B30492#32
  | 26 => 0x34BAF3E5#32
  | 27 => 0xB4C37BD6#32
  | 28 => 0x34CCABDA#32
  | 29 => 0xB4D69568#32
  | 30 => 0x34E14C49#32
  | 31 => 0xB4ECE6F7#32
  | 32 => 0x34F97F13#32
  | 33 => 0xB50398F7#32
  | 34 => 0x350B1097#32
  | 35 => 0xB51339CD#32
  | 36 => 0x351C2B08#32
  | 37 => 0xB525FE56#32
  | 38 => 0x3530D21D#32
  | 39 => 0xB53CCA00#32
  | 40 => 0x354A0FF9#32
  | 41 => 0xB558D5BB#32
  | 42 => 0x35695670#32
  | 43 => 0xB57BD8F1#32
  | 44 => 0x3588594C#32
  | 45 => 0xB5942572#32
  | 46 => 0x35A19018#32
  | 47 => 0xB5B0E6EF#32
  | 48 => 0x35C28A3B#32
  | 49 => 0xB5D6F23A#32
  | 50 => 0x35EEB658#32
  | 51 => 0xB6054B76#32
  | 52 => 0x3615C529#32
  | 53 => 0xB6296767#32
  | 54 => 0x3641014B#32
  | 55 => 0xB65DA20C#32
  | 56 => 0x368056F2#32
  | 57 => 0xB695FBC4#32
  | 58 => 0x36B0ED61#32
  | 59 => 0xB6D29E9B#32
  | 60 => 0x36FFBDB2#32
  | 61 => 0xB692EE32#32
  | 62 => 0x391EBB1A#32
  | 63 => 0x3B12D0DF#32
  | 64 => 0x3CA0086D#32
  | 65 => 0x3DBAD58B#32
  | 66 => 0x3E6BB748#32
  | 67 => 0x3EA069FE#32
  | 68 => 0x3E6BB748#32
  | 69 => 0x3DBAD58B#32
  | 70 => 0x3CA0086D#32
  | 71 => 0x3B12D0DF#32
  | 72 => 0x391EBB1A#32
  | 73 => 0xB692EE32#32
  | 74 => 0x36FFBDB2#32
  | 75 => 0xB6D29E9B#32
  | 76 => 0x36B0ED61#32
  | 77 => 0xB695FBC4#32
  | 78 => 0x368056F2#32
  | 79 => 0xB65DA20C#32
  | 80 => 0x3641014B#32
  | 81 => 0xB6296767#32
  | 82 => 0x3615C529#32
  | 83 => 0xB6054B76#32
  | 84 => 0x35EEB658#32
  | 85 => 0xB5D6F23A#32
  | 86 => 0x35C28A3B#32
  | 87 => 0xB5B0E6EF#32
  | 88 => 0x35A19018#32
  | 89 => 0xB5942572#32
  | 90 => 0x3588594C#32
  | 91 => 0xB57BD8F1#32
  | 92 => 0x35695670#32
  | 93 => 0xB558D5BB#32
  | 94 => 0x354A0FF9#32
  | 95 => 0xB53CCA00#32
  | 96 => 0x3530D21D#32
  | 97 => 0xB525FE56#32
  | 98 => 0x351C2B08#32
  | 99 => 0xB51339CD#32
  | 100 => 0x350B1097#32
  | 101 => 0xB50398F7#32
  | 102 => 0x34F97F13#32
  | 103 => 0xB4ECE6F7#32
  | 104 => 0x34E14C49#32
  | 105 => 0xB4D69568#32
  | 106 => 0x34CCABDA#32
  | 107 => 0xB4C37BD6#32
  | 108 => 0x34BAF3E5#32
  | 109 => 0xB4B30492#32
  | 110 => 0x34ABA023#32
  | 111 => 0xB4A4BA5F#32
  | 112 => 0x349E485F#32
  | 113 => 0xB4984061#32
  | 114 => 0x349299A5#32
  | 115 => 0xB48D4C4D#32
  | 116 => 0x34885143#32
  | 117 => 0xB483A221#32
  | 118 => 0x347E723F#32
  | 119 => 0xB4762200#32
  | 120 => 0x346E49FF#32
  | 121 => 0xB466E193#32
  | 122 => 0x345FE0DA#32
  | 123 => 0xB45940A1#32
  | 124 => 0x3452FA51#32
  | 125 => 0xB44D07E6#32
  | 126 => 0x344763DA#32
  | 127 => 0xB4420919#32
  | _ => 0#32

noncomputable abbrev lit0t0_135 (i : Nat) : BitVec 32 := match i % 128 with
  | 0 => 0x343CF2FA#32
  | 1 => 0xB4381D32#32
  | 2 => 0x343383CC#32
  | 3 => 0xB42F2322#32
  | 4 => 0x342AF7D2#32
  | 5 => 0xB426FEBD#32
  | 6 => 0x342334FF#32
  | 7 => 0xB41F97EA#32
  | 8 => 0x341C2500#32
  | 9 => 0xB418D9F0#32
  | 10 => 0x3415B495#32
  | 11 => 0xB412B2ED#32
  | 12 => 0x340FD31A#32
  | 13 => 0xB40D1360#32
  | 14 => 0x340A721F#32
  | 15 => 0xB407EDD1#32
  | 16 => 0x3405850C#32
  | 17 => 0xB403367C#32
  | 18 => 0x340100E3#32
  | 19 => 0xB3FDC62E#32
  | 20 => 0x33F9B800#32
  | 21 => 0xB3F5D532#32
  | 22 => 0x33F21BD6#32
  | 23 => 0xB3EE8A1F#32
  | 24 => 0x33EB1E5A#32
  | 25 => 0xB3E7D6EF#32
  | 26 => 0x33E4B25D#32
  | 27 => 0xB3E1AF3D#32
  | 28 => 0x33DECC38#32
  | 29 => 0xB3DC0810#32
  | 30 => 0x33D96196#32
  | 31 => 0xB3D6D7AE#32
  | 32 => 0x33D4694B#32
  | 33 => 0xB3D21572#32
  | 34 => 0x33CFDB34#32
  | 35 => 0xB3CDB9B1#32
  | 36 => 0x33CBB015#32
  | 37 => 0xB3C9BD97#32
  | 38 => 0x33C7E17D#32
  | 39 => 0xB3C61B15#32
  | 40 => 0x33C469B8#32
  | 41 => 0xB3C2CCC7#32
  | 42 => 0x33C143B0#32
  | 43 => 0xB3BFCDE6#32
  | 44 => 0x33BE6AE7#32
  | 45 => 0xB3BD1A36#32
  | 46 => 0x33BBDB61#32
  | 47 => 0xB3BAADFB#32
  | 48 => 0x33B9919E#32
  | 49 => 0xB3B885EC#32
  | 50 => 0x33B78A8A#32
  | 51 => 0xB3B69F28#32
  | 52 => 0x33B5C377#32
  | 53 => 0xB3B4F732#32
  | 54 => 0x33B43A15#32
  | 55 => 0xB3B38BE5#32
  | 56 => 0x33B2EC6A#32
  | 57 => 0xB3B25B72#32
  | 58 => 0x33B1D8CF#32
  | 59 => 0xB3B16459#32
  | 60 => 0x33B0FDEA#32
  | 61 => 0xB3B0A563#32
  | 62 => 0x33B05AA9#32
  | 63 => 0xB3B01DA5#32
  | 64 => 0x33AFEE43#32
  | 65 => 0xB3AFCC75#32
  | 66 => 0x33AFB831#32
  | 67 => 0xB3AFB170#32
  | 68 => 0x33AFB831#32
  | 69 => 0xB3AFCC75#32
  | 70 => 0x33AFEE43#32
  | 71 => 0xB3B01DA5#32
  | 72 => 0x33B05AA9#32
  | 73 => 0xB3B0A563#32
  | 74 => 0x33B0FDEA#32
  | 75 => 0xB3B16459#32
  | 76 => 0x33B1D8CF#32
  | 77 => 0xB3B25B72#32
  | 78 => 0x33B2EC6A#32
  | 79 => 0xB3B38BE5#32
  | 80 => 0x33B43A15#32
  | 81 => 0xB3B4F732#32
  | 82 => 0x33B5C377#32
  | 83 => 0xB3B69F28#32
  | 84 => 0x33B78A8A#32
  | 85 => 0xB3B885EC#32
  | 86 => 0x33B9919E#32
  | 87 => 0xB3BAADFB#32
  | 88 => 0x33BBDB61#32
  | 89 => 0xB3BD1A36#32
  | 90 => 0x33BE6AE7#32
  | 91 => 0xB3BFCDE6#32
  | 92 => 0x33C143B0#32
  | 93 => 0xB3C2CCC7#32
  | 94 => 0x33C469B8#32
  | 95 => 0xB3C61B15#32
  | 96 => 0x33C7E17D#32
  | 97 => 0xB3C9BD97#32
  | 98 => 0x33CBB015#32
  | 99 => 0xB3CDB9B1#32
  | 100 => 0x33CFDB34#32
  | 101 => 0xB3D21572#32
  | 102 => 0x33D4694B#32
  | 103 => 0xB3D6D7AE#32
  | 104 => 0x33D96196#32
  | 105 => 0xB3DC0810#32
  | 106 => 0x33DECC38#32
  | 107 => 0xB3E1AF3D#32
  | 108 => 0x33E4B25D#32
  | 109 => 0xB3E7D6EF#32
  | 110 => 0x33EB1E5A#32
  | 111 => 0xB3EE8A1F#32
  | 112 => 0x33F21BD6#32
  | 113 => 0xB3F5D532#32
  | 114 => 0x33F9B800#32
  | 115 => 0xB3FDC62E#32
  | 116 => 0x340100E3#32
  | 117 => 0xB403367C#32
  | 118 => 0x3405850C#32
  | 119 => 0xB407EDD1#32
  | 120 => 0x340A721F#32
  | 121 => 0xB40D1360#32
  | 122 => 0x340FD31A#32
  | 123 => 0xB412B2ED#32
  | 124 => 0x3415B495#32
  | 125 => 0xB418D9F0#32
  | 126 => 0x341C2500#32
  | 127 => 0xB41F97EA#32
  | _ => 0#32

noncomputable abbrev lit0t0_136 (i : Nat) : BitVec 32 := match i % 128 with
  | 0 => 0xB41F97EA#32
  | 1 => 0x342334FF#32
  | 2 => 0xB426FEBD#32
  | 3 => 0x342AF7D2#32
  | 4 => 0xB42F2322#32
  | 5 => 0x343383CC#32
  | 6 => 0xB4381D32#32
  | 7 => 0x343CF2FA#32
  | 8 => 0xB4420919#32
  | 9 => 0x344763DA#32
  | 10 => 0xB44D07E6#32
  | 11 => 0x3452FA51#32
  | 12 => 0xB45940A1#32
  | 13 => 0x345FE0DA#32
  | 14 => 0xB466E193#32
  | 15 => 0x346E49FF#32
  | 16 => 0xB4762200#32
  | 17 => 0x347E723F#32
  | 18 => 0xB483A221#32
  | 19 => 0x34885142#32
  | 20 => 0xB48D4C4D#32
  | 21 => 0x349299A5#32
  | 22 => 0xB4984061#32
  | 23 => 0x349E485F#32
  | 24 => 0xB4A4BA5F#32
  | 25 => 0x34ABA023#32
  | 26 => 0xB4B30492#32
  | 27 => 0x34BAF3E5#32
  | 28 => 0xB4C37BD6#32
  | 29 => 0x34CCABDA#32
  | 30 => 0xB4D69568#32
  | 31 => 0x34E14C49#32
  | 32 => 0xB4ECE6F7#32
  | 33 => 0x34F97F13#32
  | 34 => 0xB50398F7#32
  | 35 => 0x350B1097#32
  | 36 => 0xB51339CD#32
  | 37 => 0x351C2B08#32
  | 38 => 0xB525FE56#32
  | 39 => 0x3530D21D#32
  | 40 => 0xB53CCA00#32
  | 41 => 0x354A0FF9#32
  | 42 => 0xB558D5BB#32
  | 43 => 0x35695670#32
  | 44 => 0xB57BD8F1#32
  | 45 => 0x3588594C#32
  | 46 => 0xB5942572#32
  | 47 => 0x35A19018#32
  | 48 => 0xB5B0E6EF#32
  | 49 => 0x35C28A3B#32
  | 50 => 0xB5D6F23A#32
  | 51 => 0x35EEB658#32
  | 52 => 0xB6054B76#32
  | 53 => 0x3615C529#32
  | 54 => 0xB6296767#32
  | 55 => 0x3641014B#32
  | 56 => 0xB65DA20C#32
  | 57 => 0x368056F2#32
  | 58 => 0xB695FBC4#32
  | 59 => 0x36B0ED61#32
  | 60 => 0xB6D29E9B#32
  | 61 => 0x36FFBDB2#32
  | 62 => 0xB692EE32#32
  | 63 => 0x391EBB1A#32
  | 64 => 0x3B12D0DF#32
  | 65 => 0x3CA0086D#32
  | 66 => 0x3DBAD58B#32
  | 67 => 0x3E6BB748#32
  | 68 => 0x3EA069FE#32
  | 69 => 0x3E6BB748#32
  | 70 => 0x3DBAD58B#32
  | 71 => 0x3CA0086D#32
  | 72 => 0x3B12D0DF#32
  | 73 => 0x391EBB1A#32
  | 74 => 0xB692EE32#32
  | 75 => 0x36FFBDB2#32
  | 76 => 0xB6D29E9B#32
  | 77 => 0x36B0ED61#32
  | 78 => 0xB695FBC4#32
  | 79 => 0x368056F2#32
  | 80 => 0xB65DA20C#32
  | 81 => 0x3641014B#32
  | 82 => 0xB6296767#32
  | 83 => 0x3615C529#32
  | 84 => 0xB6054B76#32
  | 85 => 0x35EEB658#32
  | 86 => 0xB5D6F23A#32
  | 87 => 0x35C28A3B#32
  | 88 => 0xB5B0E6EF#32
  | 89 => 0x35A19018#32
  | 90 => 0xB5942572#32
  | 91 => 0x3588594C#32
  | 92 => 0xB57BD8F1#32
  | 93 => 0x35695670#32
  | 94 => 0xB558D5BB#32
  | 95 => 0x354A0FF9#32
  | 96 => 0xB53CCA00#32
  | 97 => 0x3530D21D#32
  | 98 => 0xB525FE56#32
  | 99 => 0x351C2B08#32
  | 100 => 0xB51339CD#32
  | 101 => 0x350B1097#32
  | 102 => 0xB50398F7#32
  | 103 => 0x34F97F13#32
  | 104 => 0xB4ECE6F7#32
  | 105 => 0x34E14C49#32
  | 106 => 0xB4D69568#32
  | 107 => 0x34CCABDA#32
  | 108 => 0xB4C37BD6#32
  | 109 => 0x34BAF3E5#32
  | 110 => 0xB4B30492#32
  | 111 => 0x34ABA023#32
  | 112 => 0xB4A4BA5F#32
  | 113 => 0x349E485F#32
  | 114 => 0xB4984061#32
  | 115 => 0x349299A5#32
  | 116 => 0xB48D4C4D#32
  | 117 => 0x34885143#32
  | 118 => 0xB483A221#32
  | 119 => 0x347E723F#32
  | 120 => 0xB4762200#32
  | 121 => 0x346E49FF#32
  | 122 => 0xB466E193#32
  | 123 => 0x345FE0DA#32
  | 124 => 0xB45940A1#32
  | 125 => 0x3452FA51#32
  | 126 => 0xB44D07E6#32
  | 127 => 0x344763DA#32
  | _ => 0#32

noncomputable abbrev lit0t0_137 (i : Nat) : BitVec 32 := match i % 128 with
  | 0 => 0xB4420919#32
  | 1 => 0x343CF2FA#32
  | 2 => 0xB4381D32#32
  | 3 => 0x343383CC#32
  | 4 => 0xB42F2322#32
  | 5 => 0x342AF7D2#32
  | 6 => 0xB426FEBD#32
  | 7 => 0x342334FF#32
  | 8 => 0xB41F97EA#32
  | 9 => 0x341C2500#32
  | 10 => 0xB418D9F0#32
  | 11 => 0x3415B495#32
  | 12 => 0xB412B2ED#32
  | 13 => 0x340FD31A#32
  | 14 => 0xB40D1360#32
  | 15 => 0x340A721F#32
  | 16 => 0xB407EDD1#32
  | 17 => 0x3405850C#32
  | 18 => 0xB403367C#32
  | 19 => 0x340100E3#32
  | 20 => 0xB3FDC62E#32
  | 21 => 0x33F9B800#32
  | 22 => 0xB3F5D532#32
  | 23 => 0x33F21BD6#32
  | 24 => 0xB3EE8A1F#32
  | 25 => 0x33EB1E5A#32
  | 26 => 0xB3E7D6EF#32
  | 27 => 0x33E4B25D#32
  | 28 => 0xB3E1AF3D#32
  | 29 => 0x33DECC38#32
  | 30 => 0xB3DC0810#32
  | 31 => 0x33D96196#32
  | 32 => 0xB3D6D7AE#32
  | 33 => 0x33D4694B#32
  | 34 => 0xB3D21572#32
  | 35 => 0x33CFDB34#32
  | 36 => 0xB3CDB9B1#32
  | 37 => 0x33CBB015#32
  | 38 => 0xB3C9BD97#32
  | 39 => 0x33C7E17D#32
  | 40 => 0xB3C61B15#32
  | 41 => 0x33C469B8#32
  | 42 => 0xB3C2CCC7#32
  | 43 => 0x33C143B0#32
  | 44 => 0xB3BFCDE6#32
  | 45 => 0x33BE6AE7#32
  | 46 => 0xB3BD1A36#32
  | 47 => 0x33BBDB61#32
  | 48 => 0xB3BAADFB#32
  | 49 => 0x33B9919E#32
  | 50 => 0xB3B885EC#32
  | 51 => 0x33B78A8A#32
  | 52 => 0xB3B69F28#32
  | 53 => 0x33B5C377#32
  | 54 => 0xB3B4F732#32
  | 55 => 0x33B43A15#32
  | 56 => 0xB3B38BE5#32
  | 57 => 0x33B2EC6A#32
  | 58 => 0xB3B25B72#32
  | 59 => 0x33B1D8CF#32
  | 60 => 0xB3B16459#32
  | 61 => 0x33B0FDEA#32
  | 62 => 0xB3B0A563#32
  | 63 => 0x33B05AA9#32
  | 64 => 0xB3B01DA5#32
  | 65 => 0x33AFEE43#32
  | 66 => 0xB3AFCC75#32
  | 67 => 0x33AFB831#32
  | 68 => 0xB3AFB170#32
  | 69 => 0x33AFB831#32
  | 70 => 0xB3AFCC75#32
  | 71 => 0x33AFEE43#32
  | 72 => 0xB3B01DA5#32
  | 73 => 0x33B05AA9#32
  | 74 => 0xB3B0A563#32
  | 75 => 0x33B0FDEA#32
  | 76 => 0xB3B16459#32
  | 77 => 0x33B1D8CF#32
  | 78 => 0xB3B25B72#32
  | 79 => 0x33B2EC6A#32
  | 80 => 0xB3B38BE5#32
  | 81 => 0x33B43A15#32
  | 82 => 0xB3B4F732#32
  | 83 => 0x33B5C377#32
  | 84 => 0xB3B69F28#32
  | 85 => 0x33B78A8A#32
  | 86 => 0xB3B885EC#32
  | 87 => 0x33B9919E#32
  | 88 => 0xB3BAADFB#32
  | 89 => 0x33BBDB61#32
  | 90 => 0xB3BD1A36#32
  | 91 => 0x33BE6AE7#32
  | 92 => 0xB3BFCDE6#32
  | 93 => 0x33C143B0#32
  | 94 => 0xB3C2CCC7#32
  | 95 => 0x33C469B8#32
  | 96 => 0xB3C61B15#32
  | 97 => 0x33C7E17D#32
  | 98 => 0xB3C9BD97#32
  | 99 => 0x33CBB015#32
  | 100 => 0xB3CDB9B1#32
  | 101 => 0x33CFDB34#32
  | 102 => 0xB3D21572#32
  | 103 => 0x33D4694B#32
  | 104 => 0xB3D6D7AE#32
  | 105 => 0x33D96196#32
  | 106 => 0xB3DC0810#32
  | 107 => 0x33DECC38#32
  | 108 => 0xB3E1AF3D#32
  | 109 => 0x33E4B25D#32
  | 110 => 0xB3E7D6EF#32
  | 111 => 0x33EB1E5A#32
  | 112 => 0xB3EE8A1F#32
  | 113 => 0x33F21BD6#32
  | 114 => 0xB3F5D532#32
  | 115 => 0x33F9B800#32
  | 116 => 0xB3FDC62E#32
  | 117 => 0x340100E3#32
  | 118 => 0xB403367C#32
  | 119 => 0x3405850C#32
  | 120 => 0xB407EDD1#32
  | 121 => 0x340A721F#32
  | 122 => 0xB40D1360#32
  | 123 => 0x340FD31A#32
  | 124 => 0xB412B2ED#32
  | 125 => 0x3415B495#32
  | 126 => 0xB418D9F0#32
  | 127 => 0x341C2500#32
  | _ => 0#32

noncomputable abbrev lit0t0_138 (i : Nat) : BitVec 32 := match i % 128 with
  | 0 => 0x341C2500#32
  | 1 => 0xB41F97EA#32
  | 2 => 0x342334FF#32
  | 3 => 0xB426FEBD#32
  | 4 => 0x342AF7D2#32
  | 5 => 0xB42F2322#32
  | 6 => 0x343383CC#32
  | 7 => 0xB4381D32#32
  | 8 => 0x343CF2FA#32
  | 9 => 0xB4420919#32
  | 10 => 0x344763DA#32
  | 11 => 0xB44D07E6#32
  | 12 => 0x3452FA51#32
  | 13 => 0xB45940A1#32
  | 14 => 0x345FE0DA#32
  | 15 => 0xB466E193#32
  | 16 => 0x346E49FF#32
  | 17 => 0xB4762200#32
  | 18 => 0x347E723F#32
  | 19 => 0xB483A221#32
  | 20 => 0x34885143#32
  | 21 => 0xB48D4C4D#32
  | 22 => 0x349299A5#32
  | 23 => 0xB4984061#32
  | 24 => 0x349E485F#32
  | 25 => 0xB4A4BA5F#32
  | 26 => 0x34ABA023#32
  | 27 => 0xB4B30492#32
  | 28 => 0x34BAF3E5#32
  | 29 => 0xB4C37BD6#32
  | 30 => 0x34CCABDA#32
  | 31 => 0xB4D69568#32
  | 32 => 0x34E14C49#32
  | 33 => 0xB4ECE6F7#32
  | 34 => 0x34F97F13#32
  | 35 => 0xB50398F7#32
  | 36 => 0x350B1097#32
  | 37 => 0xB51339CD#32
  | 38 => 0x351C2B08#32
  | 39 => 0xB525FE56#32
  | 40 => 0x3530D21D#32
  | 41 => 0xB53CCA00#32
  | 42 => 0x354A0FF9#32
  | 43 => 0xB558D5BB#32
  | 44 => 0x35695670#32
  | 45 => 0xB57BD8F1#32
  | 46 => 0x3588594C#32
  | 47 => 0xB5942572#32
  | 48 => 0x35A19018#32
  | 49 => 0xB5B0E6EF#32
  | 50 => 0x35C28A3B#32
  | 51 => 0xB5D6F23A#32
  | 52 => 0x35EEB658#32
  | 53 => 0xB6054B76#32
  | 54 => 0x3615C529#32
  | 55 => 0xB6296767#32
  | 56 => 0x3641014B#32
  | 57 => 0xB65DA20C#32
  | 58 => 0x368056F2#32
  | 59 => 0xB695FBC4#32
  | 60 => 0x36B0ED61#32
  | 61 => 0xB6D29E9B#32
  | 62 => 0x36FFBDB2#32
  | 63 => 0xB692EE32#32
  | 64 => 0x391EBB1A#32
  | 65 => 0x3B12D0DF#32
  | 66 => 0x3CA0086D#32
  | 67 => 0x3DBAD58B#32
  | 68 => 0x3E6BB748#32
  | 69 => 0x3EA069FE#32
  | 70 => 0x3E6BB748#32
  | 71 => 0x3DBAD58B#32
  | 72 => 0x3CA0086D#32
  | 73 => 0x3B12D0DF#32
  | 74 => 0x391EBB1A#32
  | 75 => 0xB692EE32#32
  | 76 => 0x36FFBDB2#32
  | 77 => 0xB6D29E9B#32
  | 78 => 0x36B0ED61#32
  | 79 => 0xB695FBC4#32
  | 80 => 0x368056F2#32
  | 81 => 0xB65DA20C#32
  | 82 => 0x3641014B#32
  | 83 => 0xB6296767#32
  | 84 => 0x3615C529#32
  | 85 => 0xB6054B76#32
  | 86 => 0x35EEB658#32
  | 87 => 0xB5D6F23A#32
  | 88 => 0x35C28A3B#32
  | 89 => 0xB5B0E6EF#32
  | 90 => 0x35A19018#32
  | 91 => 0xB5942572#32
  | 92 => 0x3588594C#32
  | 93 => 0xB57BD8F1#32
  | 94 => 0x35695670#32
  | 95 => 0xB558D5BB#32
  | 96 => 0x354A0FF9#32
  | 97 => 0xB53CCA00#32
  | 98 => 0x3530D21D#32
  | 99 => 0xB525FE56#32
  | 100 => 0x351C2B08#32
  | 101 => 0xB51339CD#32
  | 102 => 0x350B1097#32
  | 103 => 0xB50398F7#32
  | 104 => 0x34F97F13#32
  | 105 => 0xB4ECE6F7#32
  | 106 => 0x34E14C49#32
  | 107 => 0xB4D69568#32
  | 108 => 0x34CCABDA#32
  | 109 => 0xB4C37BD6#32
  | 110 => 0x34BAF3E5#32
  | 111 => 0xB4B30492#32
  | 112 => 0x34ABA023#32
  | 113 => 0xB4A4BA5F#32
  | 114 => 0x349E485F#32
  | 115 => 0xB4984061#32
  | 116 => 0x349299A5#32
  | 117 => 0xB48D4C4D#32
  | 118 => 0x34885143#32
  | 119 => 0xB483A221#32
  | 120 => 0x347E723F#32
  | 121 => 0xB4762200#32
  | 122 => 0x346E49FF#32
  | 123 => 0xB466E193#32
  | 124 => 0x345FE0DA#32
  | 125 => 0xB45940A1#32
  | 126 => 0x3452FA51#32
  | 127 => 0xB44D07E6#32
  | _ => 0#32

noncomputable abbrev lit0t0_139 (i : Nat) : BitVec 32 := match i % 128 with
  | 0 => 0x344763DA#32
  | 1 => 0xB4420919#32
  | 2 => 0x343CF2FA#32
  | 3 => 0xB4381D32#32
  | 4 => 0x343383CC#32
  | 5 => 0xB42F2322#32
  | 6 => 0x342AF7D2#32
  | 7 => 0xB426FEBD#32
  | 8 => 0x342334FF#32
  | 9 => 0xB41F97EA#32
  | 10 => 0x341C2500#32
  | 11 => 0xB418D9F0#32
  | 12 => 0x3415B495#32
  | 13 => 0xB412B2ED#32
  | 14 => 0x340FD31A#32
  | 15 => 0xB40D1360#32
  | 16 => 0x340A721F#32
  | 17 => 0xB407EDD1#32
  | 18 => 0x3405850C#32
  | 19 => 0xB403367C#32
  | 20 => 0x340100E3#32
  | 21 => 0xB3FDC62E#32
  | 22 => 0x33F9B800#32
  | 23 => 0xB3F5D532#32
  | 24 => 0x33F21BD6#32
  | 25 => 0xB3EE8A1F#32
  | 26 => 0x33EB1E5A#32
  | 27 => 0xB3E7D6EF#32
  | 28 => 0x33E4B25D#32
  | 29 => 0xB3E1AF3D#32
  | 30 => 0x33DECC38#32
  | 31 => 0xB3DC0810#32
  | 32 => 0x33D96196#32
  | 33 => 0xB3D6D7AE#32
  | 34 => 0x33D4694B#32
  | 35 => 0xB3D21572#32
  | 36 => 0x33CFDB34#32
  | 37 => 0xB3CDB9B1#32
  | 38 => 0x33CBB015#32
  | 39 => 0xB3C9BD97#32
  | 40 => 0x33C7E17D#32
  | 41 => 0xB3C61B15#32
  | 42 => 0x33C469B8#32
  | 43 => 0xB3C2CCC7#32
  | 44 => 0x33C143B0#32
  | 45 => 0xB3BFCDE6#32
  | 46 => 0x33BE6AE7#32
  | 47 => 0xB3BD1A36#32
  | 48 => 0x33BBDB61#32
  | 49 => 0xB3BAADFB#32
  | 50 => 0x33B9919E#32
  | 51 => 0xB3B885EC#32
  | 52 => 0x33B78A8A#32
  | 53 => 0xB3B69F28#32
  | 54 => 0x33B5C377#32
  | 55 => 0xB3B4F732#32
  | 56 => 0x33B43A15#32
  | 57 => 0xB3B38BE5#32
  | 58 => 0x33B2EC6A#32
  | 59 => 0xB3B25B72#32
  | 60 => 0x33B1D8CF#32
  | 61 => 0xB3B16459#32
  | 62 => 0x33B0FDEA#32
  | 63 => 0xB3B0A563#32
  | 64 => 0x33B05AA9#32
  | 65 => 0xB3B01DA5#32
  | 66 => 0x33AFEE43#32
  | 67 => 0xB3AFCC75#32
  | 68 => 0x33AFB831#32
  | 69 => 0xB3AFB170#32
  | 70 => 0x33AFB831#32
  | 71 => 0xB3AFCC75#32
  | 72 => 0x33AFEE43#32
  | 73 => 0xB3B01DA5#32
  | 74 => 0x33B05AA9#32
  | 75 => 0xB3B0A563#32
  | 76 => 0x33B0FDEA#32
  | 77 => 0xB3B16459#32
  | 78 => 0x33B1D8CF#32
  | 79 => 0xB3B25B72#32
  | 80 => 0x33B2EC6A#32
  | 81 => 0xB3B38BE5#32
  | 82 => 0x33B43A15#32
  | 83 => 0xB3B4F732#32
  | 84 => 0x33B5C377#32
  | 85 => 0xB3B69F28#32
  | 86 => 0x33B78A8A#32
  | 87 => 0xB3B885EC#32
  | 88 => 0x33B9919E#32
  | 89 => 0xB3BAADFB#32
  | 90 => 0x33BBDB61#32
  | 91 => 0xB3BD1A36#32
  | 92 => 0x33BE6AE7#32
  | 93 => 0xB3BFCDE6#32
  | 94 => 0x33C143B0#32
  | 95 => 0xB3C2CCC7#32
  | 96 => 0x33C469B8#32
  | 97 => 0xB3C61B15#32
  | 98 => 0x33C7E17D#32
  | 99 => 0xB3C9BD97#32
  | 100 => 0x33CBB015#32
  | 101 => 0xB3CDB9B1#32
  | 102 => 0x33CFDB34#32
  | 103 => 0xB3D21572#32
  | 104 => 0x33D4694B#32
  | 105 => 0xB3D6D7AE#32
  | 106 => 0x33D96196#32
  | 107 => 0xB3DC0810#32
  | 108 => 0x33DECC38#32
  | 109 => 0xB3E1AF3D#32
  | 110 => 0x33E4B25D#32
  | 111 => 0xB3E7D6EF#32
  | 112 => 0x33EB1E5A#32
  | 113 => 0xB3EE8A1F#32
  | 114 => 0x33F21BD6#32
  | 115 => 0xB3F5D532#32
  | 116 => 0x33F9B800#32
  | 117 => 0xB3FDC62E#32
  | 118 => 0x340100E3#32
  | 119 => 0xB403367C#32
  | 120 => 0x3405850C#32
  | 121 => 0xB407EDD1#32
  | 122 => 0x340A721F#32
  | 123 => 0xB40D1360#32
  | 124 => 0x340FD31A#32
  | 125 => 0xB412B2ED#32
  | 126 => 0x3415B495#32
  | 127 => 0xB418D9F0#32
  | _ => 0#32

noncomputable abbrev lit0t0_140 (i : Nat) : BitVec 32 := match i % 128 with
  | 0 => 0xB418D9F0#32
  | 1 => 0x341C2500#32
  | 2 => 0xB41F97EA#32
  | 3 => 0x342334FF#32
  | 4 => 0xB426FEBD#32
  | 5 => 0x342AF7D2#32
  | 6 => 0xB42F2322#32
  | 7 => 0x343383CC#32
  | 8 => 0xB4381D32#32
  | 9 => 0x343CF2FA#32
  | 10 => 0xB4420919#32
  | 11 => 0x344763DA#32
  | 12 => 0xB44D07E6#32
  | 13 => 0x3452FA51#32
  | 14 => 0xB45940A1#32
  | 15 => 0x345FE0DA#32
  | 16 => 0xB466E193#32
  | 17 => 0x346E49FF#32
  | 18 => 0xB4762200#32
  | 19 => 0x347E723F#32
  | 20 => 0xB483A221#32
  | 21 => 0x34885143#32
  | 22 => 0xB48D4C4D#32
  | 23 => 0x349299A5#32
  | 24 => 0xB4984061#32
  | 25 => 0x349E485F#32
  | 26 => 0xB4A4BA5F#32
  | 27 => 0x34ABA023#32
  | 28 => 0xB4B30492#32
  | 29 => 0x34BAF3E5#32
  | 30 => 0xB4C37BD6#32
  | 31 => 0x34CCABDA#32
  | 32 => 0xB4D69568#32
  | 33 => 0x34E14C49#32
  | 34 => 0xB4ECE6F7#32
  | 35 => 0x34F97F13#32
  | 36 => 0xB50398F7#32
  | 37 => 0x350B1097#32
  | 38 => 0xB51339CD#32
  | 39 => 0x351C2B08#32
  | 40 => 0xB525FE56#32
  | 41 => 0x3530D21D#32
  | 42 => 0xB53CCA00#32
  | 43 => 0x354A0FF9#32
  | 44 => 0xB558D5BB#32
  | 45 => 0x35695670#32
  | 46 => 0xB57BD8F1#32
  | 47 => 0x3588594C#32
  | 48 => 0xB5942572#32
  | 49 => 0x35A19018#32
  | 50 => 0xB5B0E6EF#32
  | 51 => 0x35C28A3B#32
  | 52 => 0xB5D6F23A#32
  | 53 => 0x35EEB658#32
  | 54 => 0xB6054B76#32
  | 55 => 0x3615C529#32
  | 56 => 0xB6296767#32
  | 57 => 0x3641014B#32
  | 58 => 0xB65DA20C#32
  | 59 => 0x368056F2#32
  | 60 => 0xB695FBC4#32
  | 61 => 0x36B0ED61#32
  | 62 => 0xB6D29E9B#32
  | 63 => 0x36FFBDB2#32
  | 64 => 0xB692EE32#32
  | 65 => 0x391EBB1A#32
  | 66 => 0x3B12D0DF#32
  | 67 => 0x3CA0086D#32
  | 68 => 0x3DBAD58B#32
  | 69 => 0x3E6BB748#32
  | 70 => 0x3EA069FE#32
  | 71 => 0x3E6BB748#32
  | 72 => 0x3DBAD58B#32
  | 73 => 0x3CA0086D#32
  | 74 => 0x3B12D0DF#32
  | 75 => 0x391EBB1A#32
  | 76 => 0xB692EE32#32
  | 77 => 0x36FFBDB2#32
  | 78 => 0xB6D29E9B#32
  | 79 => 0x36B0ED61#32
  | 80 => 0xB695FBC4#32
  | 81 => 0x368056F2#32
  | 82 => 0xB65DA20C#32
  | 83 => 0x3641014B#32
  | 84 => 0xB6296767#32
  | 85 => 0x3615C529#32
  | 86 => 0xB6054B76#32
  | 87 => 0x35EEB658#32
  | 88 => 0xB5D6F23A#32
  | 89 => 0x35C28A3B#32
  | 90 => 0xB5B0E6EF#32
  | 91 => 0x35A19018#32
  | 92 => 0xB5942572#32
  | 93 => 0x3588594C#32
  | 94 => 0xB57BD8F1#32
  | 95 => 0x35695670#32
  | 96 => 0xB558D5BB#32
  | 97 => 0x354A0FF9#32
  | 98 => 0xB53CCA00#32
  | 99 => 0x3530D21D#32
  | 100 => 0xB525FE56#32
  | 101 => 0x351C2B08#32
  | 102 => 0xB51339CD#32
  | 103 => 0x350B1097#32
  | 104 => 0xB50398F7#32
  | 105 => 0x34F97F13#32
  | 106 => 0xB4ECE6F7#32
  | 107 => 0x34E14C49#32
  | 108 => 0xB4D69568#32
  | 109 => 0x34CCABDA#32
  | 110 => 0xB4C37BD6#32
  | 111 => 0x34BAF3E5#32
  | 112 => 0xB4B30492#32
  | 113 => 0x34ABA023#32
  | 114 => 0xB4A4BA5F#32
  | 115 => 0x349E485F#32
  | 116 => 0xB4984061#32
  | 117 => 0x349299A5#32
  | 118 => 0xB48D4C4D#32
  | 119 => 0x34885143#32
  | 120 => 0xB483A221#32
  | 121 => 0x347E723F#32
  | 122 => 0xB4762200#32
  | 123 => 0x346E49FF#32
  | 124 => 0xB466E193#32
  | 125 => 0x345FE0DA#32
  | 126 => 0xB45940A1#32
  | 127 => 0x3452FA51#32
  | _ => 0#32

noncomputable abbrev lit0t0_141 (i : Nat) : BitVec 32 := match i % 128 with
  | 0 => 0xB44D07E6#32
  | 1 => 0x344763DA#32
  | 2 => 0xB4420919#32
  | 3 => 0x343CF2FA#32
  | 4 => 0xB4381D32#32
  | 5 => 0x343383CC#32
  | 6 => 0xB42F2322#32
  | 7 => 0x342AF7D2#32
  | 8 => 0xB426FEBD#32
  | 9 => 0x342334FF#32
  | 10 => 0xB41F97EA#32
  | 11 => 0x341C2500#32
  | 12 => 0xB418D9F0#32
  | 13 => 0x3415B495#32
  | 14 => 0xB412B2ED#32
  | 15 => 0x340FD31A#32
  | 16 => 0xB40D1360#32
  | 17 => 0x340A721F#32
  | 18 => 0xB407EDD1#32
  | 19 => 0x3405850C#32
  | 20 => 0xB403367C#32
  | 21 => 0x340100E3#32
  | 22 => 0xB3FDC62E#32
  | 23 => 0x33F9B800#32
  | 24 => 0xB3F5D532#32
  | 25 => 0x33F21BD6#32
  | 26 => 0xB3EE8A1F#32
  | 27 => 0x33EB1E5A#32
  | 28 => 0xB3E7D6EF#32
  | 29 => 0x33E4B25D#32
  | 30 => 0xB3E1AF3D#32
  | 31 => 0x33DECC38#32
  | 32 => 0xB3DC0810#32
  | 33 => 0x33D96196#32
  | 34 => 0xB3D6D7AE#32
  | 35 => 0x33D4694B#32
  | 36 => 0xB3D21572#32
  | 37 => 0x33CFDB34#32
  | 38 => 0xB3CDB9B1#32
  | 39 => 0x33CBB015#32
  | 40 => 0xB3C9BD97#32
  | 41 => 0x33C7E17D#32
  | 42 => 0xB3C61B15#32
  | 43 => 0x33C469B8#32
  | 44 => 0xB3C2CCC7#32
  | 45 => 0x33C143B0#32
  | 46 => 0xB3BFCDE6#32
  | 47 => 0x33BE6AE7#32
  | 48 => 0xB3BD1A36#32
  | 49 => 0x33BBDB61#32
  | 50 => 0xB3BAADFB#32
  | 51 => 0x33B9919E#32
  | 52 => 0xB3B885EC#32
  | 53 => 0x33B78A8A#32
  | 54 => 0xB3B69F28#32
  | 55 => 0x33B5C377#32
  | 56 => 0xB3B4F732#32
  | 57 => 0x33B43A15#32
  | 58 => 0xB3B38BE5#32
  | 59 => 0x33B2EC6A#32
  | 60 => 0xB3B25B72#32
  | 61 => 0x33B1D8CF#32
  | 62 => 0xB3B16459#32
  | 63 => 0x33B0FDEA#32
  | 64 => 0xB3B0A563#32
  | 65 => 0x33B05AA9#32
  | 66 => 0xB3B01DA5#32
  | 67 => 0x33AFEE43#32
  | 68 => 0xB3AFCC75#32
  | 69 => 0x33AFB831#32
  | 70 => 0xB3AFB170#32
  | 71 => 0x33AFB831#32
  | 72 => 0xB3AFCC75#32
  | 73 => 0x33AFEE43#32
  | 74 => 0xB3B01DA5#32
  | 75 => 0x33B05AA9#32
  | 76 => 0xB3B0A563#32
  | 77 => 0x33B0FDEA#32
  | 78 => 0xB3B16459#32
  | 79 => 0x33B1D8CF#32
  | 80 => 0xB3B25B72#32
  | 81 => 0x33B2EC6A#32
  | 82 => 0xB3B38BE5#32
  | 83 => 0x33B43A15#32
  | 84 => 0xB3B4F732#32
  | 85 => 0x33B5C377#32
  | 86 => 0xB3B69F28#32
  | 87 => 0x33B78A8A#32
  | 88 => 0xB3B885EC#32
  | 89 => 0x33B9919E#32
  | 90 => 0xB3BAADFB#32
  | 91 => 0x33BBDB61#32
  | 92 => 0xB3BD1A36#32
  | 93 => 0x33BE6AE7#32
  | 94 => 0xB3BFCDE6#32
  | 95 => 0x33C143B0#32
  | 96 => 0xB3C2CCC7#32
  | 97 => 0x33C469B8#32
  | 98 => 0xB3C61B15#32
  | 99 => 0x33C7E17D#32
  | 100 => 0xB3C9BD97#32
  | 101 => 0x33CBB015#32
  | 102 => 0xB3CDB9B1#32
  | 103 => 0x33CFDB34#32
  | 104 => 0xB3D21572#32
  | 105 => 0x33D4694B#32
  | 106 => 0xB3D6D7AE#32
  | 107 => 0x33D96196#32
  | 108 => 0xB3DC0810#32
  | 109 => 0x33DECC38#32
  | 110 => 0xB3E1AF3D#32
  | 111 => 0x33E4B25D#32
  | 112 => 0xB3E7D6EF#32
  | 113 => 0x33EB1E5A#32
  | 114 => 0xB3EE8A1F#32
  | 115 => 0x33F21BD6#32
  | 116 => 0xB3F5D532#32
  | 117 => 0x33F9B800#32
  | 118 => 0xB3FDC62E#32
  | 119 => 0x340100E3#32
  | 120 => 0xB403367C#32
  | 121 => 0x3405850C#32
  | 122 => 0xB407EDD1#32
  | 123 => 0x340A721F#32
  | 124 => 0xB40D1360#32
  | 125 => 0x340FD31A#32
  | 126 => 0xB412B2ED#32
  | 127 => 0x3415B495#32
  | _ => 0#32

noncomputable abbrev lit0t0_142 (i : Nat) : BitVec 32 := match i % 128 with
  | 0 => 0x3415B495#32
  | 1 => 0xB418D9F0#32
  | 2 => 0x341C2500#32
  | 3 => 0xB41F97EA#32
  | 4 => 0x342334FF#32
  | 5 => 0xB426FEBD#32
  | 6 => 0x342AF7D2#32
  | 7 => 0xB42F2322#32
  | 8 => 0x343383CC#32
  | 9 => 0xB4381D32#32
  | 10 => 0x343CF2FA#32
  | 11 => 0xB4420919#32
  | 12 => 0x344763DA#32
  | 13 => 0xB44D07E6#32
  | 14 => 0x3452FA51#32
  | 15 => 0xB45940A1#32
  | 16 => 0x345FE0DA#32
  | 17 => 0xB466E193#32
  | 18 => 0x346E49FF#32
  | 19 => 0xB4762200#32
  | 20 => 0x347E723F#32
  | 21 => 0xB483A221#32
  | 22 => 0x34885143#32
  | 23 => 0xB48D4C4D#32
  | 24 => 0x349299A5#32
  | 25 => 0xB4984061#32
  | 26 => 0x349E485F#32
  | 27 => 0xB4A4BA5F#32
  | 28 => 0x34ABA023#32
  | 29 => 0xB4B30492#32
  | 30 => 0x34BAF3E5#32
  | 31 => 0xB4C37BD6#32
  | 32 => 0x34CCABDA#32
  | 33 => 0xB4D69568#32
  | 34 => 0x34E14C49#32
  | 35 => 0xB4ECE6F7#32
  | 36 => 0x34F97F13#32
  | 37 => 0xB50398F7#32
  | 38 => 0x350B1097#32
  | 39 => 0xB51339CD#32
  | 40 => 0x351C2B08#32
  | 41 => 0xB525FE56#32
  | 42 => 0x3530D21D#32
  | 43 => 0xB53CCA00#32
  | 44 => 0x354A0FF9#32
  | 45 => 0xB558D5BB#32
  | 46 => 0x35695670#32
  | 47 => 0xB57BD8F1#32
  | 48 => 0x3588594C#32
  | 49 => 0xB5942572#32
  | 50 => 0x35A19018#32
  | 51 => 0xB5B0E6EF#32
  | 52 => 0x35C28A3B#32
  | 53 => 0xB5D6F23A#32
  | 54 => 0x35EEB658#32
  | 55 => 0xB6054B76#32
  | 56 => 0x3615C529#32
  | 57 => 0xB6296767#32
  | 58 => 0x3641014B#32
  | 59 => 0xB65DA20C#32
  | 60 => 0x368056F2#32
  | 61 => 0xB695FBC4#32
  | 62 => 0x36B0ED61#32
  | 63 => 0xB6D29E9B#32
  | 64 => 0x36FFBDB2#32
  | 65 => 0xB692EE32#32
  | 66 => 0x391EBB1A#32
  | 67 => 0x3B12D0DF#32
  | 68 => 0x3CA0086D#32
  | 69 => 0x3DBAD58B#32
  | 70 => 0x3E6BB748#32
  | 71 => 0x3EA069FE#32
  | 72 => 0x3E6BB748#32
  | 73 => 0x3DBAD58B#32
  | 74 => 0x3CA0086D#32
  | 75 => 0x3B12D0DF#32
  | 76 => 0x391EBB1A#32
  | 77 => 0xB692EE32#32
  | 78 => 0x36FFBDB2#32
  | 79 => 0xB6D29E9B#32
  | 80 => 0x36B0ED61#32
  | 81 => 0xB695FBC4#32
  | 82 => 0x368056F2#32
  | 83 => 0xB65DA20C#32
  | 84 => 0x3641014B#32
  | 85 => 0xB6296767#32
  | 86 => 0x3615C529#32
  | 87 => 0xB6054B76#32
  | 88 => 0x35EEB658#32
  | 89 => 0xB5D6F23A#32
  | 90 => 0x35C28A3B#32
  | 91 => 0xB5B0E6EF#32
  | 92 => 0x35A19018#32
  | 93 => 0xB5942572#32
  | 94 => 0x3588594C#32
  | 95 => 0xB57BD8F1#32
  | 96 => 0x35695670#32
  | 97 => 0xB558D5BB#32
  | 98 => 0x354A0FF9#32
  | 99 => 0xB53CCA00#32
  | 100 => 0x3530D21D#32
  | 101 => 0xB525FE56#32
  | 102 => 0x351C2B08#32
  | 103 => 0xB51339CD#32
  | 104 => 0x350B1097#32
  | 105 => 0xB50398F7#32
  | 106 => 0x34F97F13#32
  | 107 => 0xB4ECE6F7#32
  | 108 => 0x34E14C49#32
  | 109 => 0xB4D69568#32
  | 110 => 0x34CCABDA#32
  | 111 => 0xB4C37BD6#32
  | 112 => 0x34BAF3E5#32
  | 113 => 0xB4B30492#32
  | 114 => 0x34ABA023#32
  | 115 => 0xB4A4BA5F#32
  | 116 => 0x349E485F#32
  | 117 => 0xB4984061#32
  | 118 => 0x349299A5#32
  | 119 => 0xB48D4C4D#32
  | 120 => 0x34885143#32
  | 121 => 0xB483A221#32
  | 122 => 0x347E723F#32
  | 123 => 0xB4762200#32
  | 124 => 0x346E49FF#32
  | 125 => 0xB466E193#32
  | 126 => 0x345FE0DA#32
  | 127 => 0xB45940A1#32
  | _ => 0#32

noncomputable abbrev lit0t0_143 (i : Nat) : BitVec 32 := match i % 128 with
  | 0 => 0x3452FA51#32
  | 1 => 0xB44D07E6#32
  | 2 => 0x344763DA#32
  | 3 => 0xB4420919#32
  | 4 => 0x343CF2FA#32
  | 5 => 0xB4381D32#32
  | 6 => 0x343383CC#32
  | 7 => 0xB42F2322#32
  | 8 => 0x342AF7D2#32
  | 9 => 0xB426FEBD#32
  | 10 => 0x342334FF#32
  | 11 => 0xB41F97EA#32
  | 12 => 0x341C2500#32
  | 13 => 0xB418D9F0#32
  | 14 => 0x3415B495#32
  | 15 => 0xB412B2ED#32
  | 16 => 0x340FD31A#32
  | 17 => 0xB40D1360#32
  | 18 => 0x340A721F#32
  | 19 => 0xB407EDD1#32
  | 20 => 0x3405850C#32
  | 21 => 0xB403367C#32
  | 22 => 0x340100E3#32
  | 23 => 0xB3FDC62E#32
  | 24 => 0x33F9B800#32
  | 25 => 0xB3F5D532#32
  | 26 => 0x33F21BD6#32
  | 27 => 0xB3EE8A1F#32
  | 28 => 0x33EB1E5A#32
  | 29 => 0xB3E7D6EF#32
  | 30 => 0x33E4B25D#32
  | 31 => 0xB3E1AF3D#32
  | 32 => 0x33DECC38#32
  | 33 => 0xB3DC0810#32
  | 34 => 0x33D96196#32
  | 35 => 0xB3D6D7AE#32
  | 36 => 0x33D4694B#32
  | 37 => 0xB3D21572#32
  | 38 => 0x33CFDB34#32
  | 39 => 0xB3CDB9B1#32
  | 40 => 0x33CBB015#32
  | 41 => 0xB3C9BD97#32
  | 42 => 0x33C7E17D#32
  | 43 => 0xB3C61B15#32
  | 44 => 0x33C469B8#32
  | 45 => 0xB3C2CCC7#32
  | 46 => 0x33C143B0#32
  | 47 => 0xB3BFCDE6#32
  | 48 => 0x33BE6AE7#32
  | 49 => 0xB3BD1A36#32
  | 50 => 0x33BBDB61#32
  | 51 => 0xB3BAADFB#32
  | 52 => 0x33B9919E#32
  | 53 => 0xB3B885EC#32
  | 54 => 0x33B78A8A#32
  | 55 => 0xB3B69F28#32
  | 56 => 0x33B5C377#32
  | 57 => 0xB3B4F732#32
  | 58 => 0x33B43A15#32
  | 59 => 0xB3B38BE5#32
  | 60 => 0x33B2EC6A#32
  | 61 => 0xB3B25B72#32
  | 62 => 0x33B1D8CF#32
  | 63 => 0xB3B16459#32
  | 64 => 0x33B0FDEA#32
  | 65 => 0xB3B0A563#32
  | 66 => 0x33B05AA9#32
  | 67 => 0xB3B01DA5#32
  | 68 => 0x33AFEE43#32
  | 69 => 0xB3AFCC75#32
  | 70 => 0x33AFB831#32
  | 71 => 0xB3AFB170#32
  | 72 => 0x33AFB831#32
  | 73 => 0xB3AFCC75#32
  | 74 => 0x33AFEE43#32
  | 75 => 0xB3B01DA5#32
  | 76 => 0x33B05AA9#32
  | 77 => 0xB3B0A563#32
  | 78 => 0x33B0FDEA#32
  | 79 => 0xB3B16459#32
  | 80 => 0x33B1D8CF#32
  | 81 => 0xB3B25B72#32
  | 82 => 0x33B2EC6A#32
  | 83 => 0xB3B38BE5#32
  | 84 => 0x33B43A15#32
  | 85 => 0xB3B4F732#32
  | 86 => 0x33B5C377#32
  | 87 => 0xB3B69F28#32
  | 88 => 0x33B78A8A#32
  | 89 => 0xB3B885EC#32
  | 90 => 0x33B9919E#32
  | 91 => 0xB3BAADFB#32
  | 92 => 0x33BBDB61#32
  | 93 => 0xB3BD1A36#32
  | 94 => 0x33BE6AE7#32
  | 95 => 0xB3BFCDE6#32
  | 96 => 0x33C143B0#32
  | 97 => 0xB3C2CCC7#32
  | 98 => 0x33C469B8#32
  | 99 => 0xB3C61B15#32
  | 100 => 0x33C7E17D#32
  | 101 => 0xB3C9BD97#32
  | 102 => 0x33CBB015#32
  | 103 => 0xB3CDB9B1#32
  | 104 => 0x33CFDB34#32
  | 105 => 0xB3D21572#32
  | 106 => 0x33D4694B#32
  | 107 => 0xB3D6D7AE#32
  | 108 => 0x33D96196#32
  | 109 => 0xB3DC0810#32
  | 110 => 0x33DECC38#32
  | 111 => 0xB3E1AF3D#32
  | 112 => 0x33E4B25D#32
  | 113 => 0xB3E7D6EF#32
  | 114 => 0x33EB1E5A#32
  | 115 => 0xB3EE8A1F#32
  | 116 => 0x33F21BD6#32
  | 117 => 0xB3F5D532#32
  | 118 => 0x33F9B800#32
  | 119 => 0xB3FDC62E#32
  | 120 => 0x340100E3#32
  | 121 => 0xB403367C#32
  | 122 => 0x3405850C#32
  | 123 => 0xB407EDD1#32
  | 124 => 0x340A721F#32
  | 125 => 0xB40D1360#32
  | 126 => 0x340FD31A#32
  | 127 => 0xB412B2ED#32
  | _ => 0#32

noncomputable abbrev lit0t0_144 (i : Nat) : BitVec 32 := match i % 128 with
  | 0 => 0xB412B2ED#32
  | 1 => 0x3415B495#32
  | 2 => 0xB418D9F0#32
  | 3 => 0x341C2500#32
  | 4 => 0xB41F97EA#32
  | 5 => 0x342334FF#32
  | 6 => 0xB426FEBD#32
  | 7 => 0x342AF7D2#32
  | 8 => 0xB42F2322#32
  | 9 => 0x343383CC#32
  | 10 => 0xB4381D32#32
  | 11 => 0x343CF2FA#32
  | 12 => 0xB4420919#32
  | 13 => 0x344763DA#32
  | 14 => 0xB44D07E6#32
  | 15 => 0x3452FA51#32
  | 16 => 0xB45940A1#32
  | 17 => 0x345FE0DA#32
  | 18 => 0xB466E193#32
  | 19 => 0x346E49FF#32
  | 20 => 0xB4762200#32
  | 21 => 0x347E723F#32
  | 22 => 0xB483A221#32
  | 23 => 0x34885143#32
  | 24 => 0xB48D4C4D#32
  | 25 => 0x349299A5#32
  | 26 => 0xB4984061#32
  | 27 => 0x349E485F#32
  | 28 => 0xB4A4BA5F#32
  | 29 => 0x34ABA023#32
  | 30 => 0xB4B30492#32
  | 31 => 0x34BAF3E5#32
  | 32 => 0xB4C37BD6#32
  | 33 => 0x34CCABDA#32
  | 34 => 0xB4D69568#32
  | 35 => 0x34E14C49#32
  | 36 => 0xB4ECE6F7#32
  | 37 => 0x34F97F13#32
  | 38 => 0xB50398F7#32
  | 39 => 0x350B1097#32
  | 40 => 0xB51339CD#32
  | 41 => 0x351C2B08#32
  | 42 => 0xB525FE56#32
  | 43 => 0x3530D21D#32
  | 44 => 0xB53CCA00#32
  | 45 => 0x354A0FF9#32
  | 46 => 0xB558D5BB#32
  | 47 => 0x35695670#32
  | 48 => 0xB57BD8F1#32
  | 49 => 0x3588594C#32
  | 50 => 0xB5942572#32
  | 51 => 0x35A19018#32
  | 52 => 0xB5B0E6EF#32
  | 53 => 0x35C28A3B#32
  | 54 => 0xB5D6F23A#32
  | 55 => 0x35EEB658#32
  | 56 => 0xB6054B76#32
  | 57 => 0x3615C529#32
  | 58 => 0xB6296767#32
  | 59 => 0x3641014B#32
  | 60 => 0xB65DA20C#32
  | 61 => 0x368056F2#32
  | 62 => 0xB695FBC4#32
  | 63 => 0x36B0ED61#32
  | 64 => 0xB6D29E9B#32
  | 65 => 0x36FFBDB2#32
  | 66 => 0xB692EE32#32
  | 67 => 0x391EBB1A#32
  | 68 => 0x3B12D0DF#32
  | 69 => 0x3CA0086D#32
  | 70 => 0x3DBAD58B#32
  | 71 => 0x3E6BB748#32
  | 72 => 0x3EA069FE#32
  | 73 => 0x3E6BB748#32
  | 74 => 0x3DBAD58B#32
  | 75 => 0x3CA0086D#32
  | 76 => 0x3B12D0DF#32
  | 77 => 0x391EBB1A#32
  | 78 => 0xB692EE32#32
  | 79 => 0x36FFBDB2#32
  | 80 => 0xB6D29E9B#32
  | 81 => 0x36B0ED61#32
  | 82 => 0xB695FBC4#32
  | 83 => 0x368056F2#32
  | 84 => 0xB65DA20C#32
  | 85 => 0x3641014B#32
  | 86 => 0xB6296767#32
  | 87 => 0x3615C529#32
  | 88 => 0xB6054B76#32
  | 89 => 0x35EEB658#32
  | 90 => 0xB5D6F23A#32
  | 91 => 0x35C28A3B#32
  | 92 => 0xB5B0E6EF#32
  | 93 => 0x35A19018#32
  | 94 => 0xB5942572#32
  | 95 => 0x3588594C#32
  | 96 => 0xB57BD8F1#32
  | 97 => 0x35695670#32
  | 98 => 0xB558D5BB#32
  | 99 => 0x354A0FF9#32
  | 100 => 0xB53CCA00#32
  | 101 => 0x3530D21D#32
  | 102 => 0xB525FE56#32
  | 103 => 0x351C2B08#32
  | 104 => 0xB51339CD#32
  | 105 => 0x350B1097#32
  | 106 => 0xB50398F7#32
  | 107 => 0x34F97F13#32
  | 108 => 0xB4ECE6F7#32
  | 109 => 0x34E14C49#32
  | 110 => 0xB4D69568#32
  | 111 => 0x34CCABDA#32
  | 112 => 0xB4C37BD6#32
  | 113 => 0x34BAF3E5#32
  | 114 => 0xB4B30492#32
  | 115 => 0x34ABA023#32
  | 116 => 0xB4A4BA5F#32
  | 117 => 0x349E485F#32
  | 118 => 0xB4984061#32
  | 119 => 0x349299A5#32
  | 120 => 0xB48D4C4D#32
  | 121 => 0x34885143#32
  | 122 => 0xB483A221#32
  | 123 => 0x347E723F#32
  | 124 => 0xB4762200#32
  | 125 => 0x346E49FF#32
  | 126 => 0xB466E193#32
  | 127 => 0x345FE0DA#32
  | _ => 0#32

noncomputable abbrev lit0t0_145 (i : Nat) : BitVec 32 := match i % 128 with
  | 0 => 0xB45940A1#32
  | 1 => 0x3452FA51#32
  | 2 => 0xB44D07E6#32
  | 3 => 0x344763DA#32
  | 4 => 0xB4420919#32
  | 5 => 0x343CF2FA#32
  | 6 => 0xB4381D32#32
  | 7 => 0x343383CC#32
  | 8 => 0xB42F2322#32
  | 9 => 0x342AF7D2#32
  | 10 => 0xB426FEBD#32
  | 11 => 0x342334FF#32
  | 12 => 0xB41F97EA#32
  | 13 => 0x341C2500#32
  | 14 => 0xB418D9F0#32
  | 15 => 0x3415B495#32
  | 16 => 0xB412B2ED#32
  | 17 => 0x340FD31A#32
  | 18 => 0xB40D1360#32
  | 19 => 0x340A721F#32
  | 20 => 0xB407EDD1#32
  | 21 => 0x3405850C#32
  | 22 => 0xB403367C#32
  | 23 => 0x340100E3#32
  | 24 => 0xB3FDC62E#32
  | 25 => 0x33F9B800#32
  | 26 => 0xB3F5D532#32
  | 27 => 0x33F21BD6#32
  | 28 => 0xB3EE8A1F#32
  | 29 => 0x33EB1E5A#32
  | 30 => 0xB3E7D6EF#32
  | 31 => 0x33E4B25D#32
  | 32 => 0xB3E1AF3D#32
  | 33 => 0x33DECC38#32
  | 34 => 0xB3DC0810#32
  | 35 => 0x33D96196#32
  | 36 => 0xB3D6D7AE#32
  | 37 => 0x33D4694B#32
  | 38 => 0xB3D21572#32
  | 39 => 0x33CFDB34#32
  | 40 => 0xB3CDB9B1#32
  | 41 => 0x33CBB015#32
  | 42 => 0xB3C9BD97#32
  | 43 => 0x33C7E17D#32
  | 44 => 0xB3C61B15#32
  | 45 => 0x33C469B8#32
  | 46 => 0xB3C2CCC7#32
  | 47 => 0x33C143B0#32
  | 48 => 0xB3BFCDE6#32
  | 49 => 0x33BE6AE7#32
  | 50 => 0xB3BD1A36#32
  | 51 => 0x33BBDB61#32
  | 52 => 0xB3BAADFB#32
  | 53 => 0x33B9919E#32
  | 54 => 0xB3B885EC#32
  | 55 => 0x33B78A8A#32
  | 56 => 0xB3B69F28#32
  | 57 => 0x33B5C377#32
  | 58 => 0xB3B4F732#32
  | 59 => 0x33B43A15#32
  | 60 => 0xB3B38BE5#32
  | 61 => 0x33B2EC6A#32
  | 62 => 0xB3B25B72#32
  | 63 => 0x33B1D8CF#32
  | 64 => 0xB3B16459#32
  | 65 => 0x33B0FDEA#32
  | 66 => 0xB3B0A563#32
  | 67 => 0x33B05AA9#32
  | 68 => 0xB3B01DA5#32
  | 69 => 0x33AFEE43#32
  | 70 => 0xB3AFCC75#32
  | 71 => 0x33AFB831#32
  | 72 => 0xB3AFB170#32
  | 73 => 0x33AFB831#32
  | 74 => 0xB3AFCC75#32
  | 75 => 0x33AFEE43#32
  | 76 => 0xB3B01DA5#32
  | 77 => 0x33B05AA9#32
  | 78 => 0xB3B0A563#32
  | 79 => 0x33B0FDEA#32
  | 80 => 0xB3B16459#32
  | 81 => 0x33B1D8CF#32
  | 82 => 0xB3B25B72#32
  | 83 => 0x33B2EC6A#32
  | 84 => 0xB3B38BE5#32
  | 85 => 0x33B43A15#32
  | 86 => 0xB3B4F732#32
  | 87 => 0x33B5C377#32
  | 88 => 0xB3B69F28#32
  | 89 => 0x33B78A8A#32
  | 90 => 0xB3B885EC#32
  | 91 => 0x33B9919E#32
  | 92 => 0xB3BAADFB#32
  | 93 => 0x33BBDB61#32
  | 94 => 0xB3BD1A36#32
  | 95 => 0x33BE6AE7#32
  | 96 => 0xB3BFCDE6#32
  | 97 => 0x33C143B0#32
  | 98 => 0xB3C2CCC7#32
  | 99 => 0x33C469B8#32
  | 100 => 0xB3C61B15#32
  | 101 => 0x33C7E17D#32
  | 102 => 0xB3C9BD97#32
  | 103 => 0x33CBB015#32
  | 104 => 0xB3CDB9B1#32
  | 105 => 0x33CFDB34#32
  | 106 => 0xB3D21572#32
  | 107 => 0x33D4694B#32
  | 108 => 0xB3D6D7AE#32
  | 109 => 0x33D96196#32
  | 110 => 0xB3DC0810#32
  | 111 => 0x33DECC38#32
  | 112 => 0xB3E1AF3D#32
  | 113 => 0x33E4B25D#32
  | 114 => 0xB3E7D6EF#32
  | 115 => 0x33EB1E5A#32
  | 116 => 0xB3EE8A1F#32
  | 117 => 0x33F21BD6#32
  | 118 => 0xB3F5D532#32
  | 119 => 0x33F9B800#32
  | 120 => 0xB3FDC62E#32
  | 121 => 0x340100E3#32
  | 122 => 0xB403367C#32
  | 123 => 0x3405850C#32
  | 124 => 0xB407EDD1#32
  | 125 => 0x340A721F#32
  | 126 => 0xB40D1360#32
  | 127 => 0x340FD31A#32
  | _ => 0#32

noncomputable abbrev lit0t0_146 (i : Nat) : BitVec 32 := match i % 128 with
  | 0 => 0x340FD31A#32
  | 1 => 0xB412B2ED#32
  | 2 => 0x3415B495#32
  | 3 => 0xB418D9F0#32
  | 4 => 0x341C2500#32
  | 5 => 0xB41F97EA#32
  | 6 => 0x342334FF#32
  | 7 => 0xB426FEBD#32
  | 8 => 0x342AF7D2#32
  | 9 => 0xB42F2322#32
  | 10 => 0x343383CC#32
  | 11 => 0xB4381D32#32
  | 12 => 0x343CF2FA#32
  | 13 => 0xB4420919#32
  | 14 => 0x344763DA#32
  | 15 => 0xB44D07E6#32
  | 16 => 0x3452FA51#32
  | 17 => 0xB45940A1#32
  | 18 => 0x345FE0DA#32
  | 19 => 0xB466E193#32
  | 20 => 0x346E49FF#32
  | 21 => 0xB4762200#32
  | 22 => 0x347E723F#32
  | 23 => 0xB483A221#32
  | 24 => 0x34885143#32
  | 25 => 0xB48D4C4D#32
  | 26 => 0x349299A5#32
  | 27 => 0xB4984061#32
  | 28 => 0x349E485F#32
  | 29 => 0xB4A4BA5F#32
  | 30 => 0x34ABA023#32
  | 31 => 0xB4B30492#32
  | 32 => 0x34BAF3E5#32
  | 33 => 0xB4C37BD6#32
  | 34 => 0x34CCABDA#32
  | 35 => 0xB4D69568#32
  | 36 => 0x34E14C49#32
  | 37 => 0xB4ECE6F7#32
  | 38 => 0x34F97F13#32
  | 39 => 0xB50398F7#32
  | 40 => 0x350B1097#32
  | 41 => 0xB51339CD#32
  | 42 => 0x351C2B08#32
  | 43 => 0xB525FE56#32
  | 44 => 0x3530D21D#32
  | 45 => 0xB53CCA00#32
  | 46 => 0x354A0FF9#32
  | 47 => 0xB558D5BB#32
  | 48 => 0x35695670#32
  | 49 => 0xB57BD8F1#32
  | 50 => 0x3588594C#32
  | 51 => 0xB5942572#32
  | 52 => 0x35A19018#32
  | 53 => 0xB5B0E6EF#32
  | 54 => 0x35C28A3B#32
  | 55 => 0xB5D6F23A#32
  | 56 => 0x35EEB658#32
  | 57 => 0xB6054B76#32
  | 58 => 0x3615C529#32
  | 59 => 0xB6296767#32
  | 60 => 0x3641014B#32
  | 61 => 0xB65DA20C#32
  | 62 => 0x368056F2#32
  | 63 => 0xB695FBC4#32
  | 64 => 0x36B0ED61#32
  | 65 => 0xB6D29E9B#32
  | 66 => 0x36FFBDB2#32
  | 67 => 0xB692EE32#32
  | 68 => 0x391EBB1A#32
  | 69 => 0x3B12D0DF#32
  | 70 => 0x3CA0086D#32
  | 71 => 0x3DBAD58B#32
  | 72 => 0x3E6BB748#32
  | 73 => 0x3EA069FE#32
  | 74 => 0x3E6BB748#32
  | 75 => 0x3DBAD58B#32
  | 76 => 0x3CA0086D#32
  | 77 => 0x3B12D0DF#32
  | 78 => 0x391EBB1A#32
  | 79 => 0xB692EE32#32
  | 80 => 0x36FFBDB2#32
  | 81 => 0xB6D29E9B#32
  | 82 => 0x36B0ED61#32
  | 83 => 0xB695FBC4#32
  | 84 => 0x368056F2#32
  | 85 => 0xB65DA20C#32
  | 86 => 0x3641014B#32
  | 87 => 0xB6296767#32
  | 88 => 0x3615C529#32
  | 89 => 0xB6054B76#32
  | 90 => 0x35EEB658#32
  | 91 => 0xB5D6F23A#32
  | 92 => 0x35C28A3B#32
  | 93 => 0xB5B0E6EF#32
  | 94 => 0x35A19018#32
  | 95 => 0xB5942572#32
  | 96 => 0x3588594C#32
  | 97 => 0xB57BD8F1#32
  | 98 => 0x35695670#32
  | 99 => 0xB558D5BB#32
  | 100 => 0x354A0FF9#32
  | 101 => 0xB53CCA00#32
  | 102 => 0x3530D21D#32
  | 103 => 0xB525FE56#32
  | 104 => 0x351C2B08#32
  | 105 => 0xB51339CD#32
  | 106 => 0x350B1097#32
  | 107 => 0xB50398F7#32
  | 108 => 0x34F97F13#32
  | 109 => 0xB4ECE6F7#32
  | 110 => 0x34E14C49#32
  | 111 => 0xB4D69568#32
  | 112 => 0x34CCABDA#32
  | 113 => 0xB4C37BD6#32
  | 114 => 0x34BAF3E5#32
  | 115 => 0xB4B30492#32
  | 116 => 0x34ABA023#32
  | 117 => 0xB4A4BA5F#32
  | 118 => 0x349E485F#32
  | 119 => 0xB4984061#32
  | 120 => 0x349299A5#32
  | 121 => 0xB48D4C4D#32
  | 122 => 0x34885143#32
  | 123 => 0xB483A221#32
  | 124 => 0x347E723F#32
  | 125 => 0xB4762200#32
  | 126 => 0x346E49FF#32
  | 127 => 0xB466E193#32
  | _ => 0#32

noncomputable abbrev lit0t0_147 (i : Nat) : BitVec 32 := match i % 128 with
  | 0 => 0x345FE0DA#32
  | 1 => 0xB45940A1#32
  | 2 => 0x3452FA51#32
  | 3 => 0xB44D07E6#32
  | 4 => 0x344763DA#32
  | 5 => 0xB4420919#32
  | 6 => 0x343CF2FA#32
  | 7 => 0xB4381D32#32
  | 8 => 0x343383CC#32
  | 9 => 0xB42F2322#32
  | 10 => 0x342AF7D2#32
  | 11 => 0xB426FEBD#32
  | 12 => 0x342334FF#32
  | 13 => 0xB41F97EA#32
  | 14 => 0x341C2500#32
  | 15 => 0xB418D9F0#32
  | 16 => 0x3415B495#32
  | 17 => 0xB412B2ED#32
  | 18 => 0x340FD31A#32
  | 19 => 0xB40D1360#32
  | 20 => 0x340A721F#32
  | 21 => 0xB407EDD1#32
  | 22 => 0x3405850C#32
  | 23 => 0xB403367C#32
  | 24 => 0x340100E3#32
  | 25 => 0xB3FDC62E#32
  | 26 => 0x33F9B800#32
  | 27 => 0xB3F5D532#32
  | 28 => 0x33F21BD6#32
  | 29 => 0xB3EE8A1F#32
  | 30 => 0x33EB1E5A#32
  | 31 => 0xB3E7D6EF#32
  | 32 => 0x33E4B25D#32
  | 33 => 0xB3E1AF3D#32
  | 34 => 0x33DECC38#32
  | 35 => 0xB3DC0810#32
  | 36 => 0x33D96196#32
  | 37 => 0xB3D6D7AE#32
  | 38 => 0x33D4694B#32
  | 39 => 0xB3D21572#32
  | 40 => 0x33CFDB34#32
  | 41 => 0xB3CDB9B1#32
  | 42 => 0x33CBB015#32
  | 43 => 0xB3C9BD97#32
  | 44 => 0x33C7E17D#32
  | 45 => 0xB3C61B15#32
  | 46 => 0x33C469B8#32
  | 47 => 0xB3C2CCC7#32
  | 48 => 0x33C143B0#32
  | 49 => 0xB3BFCDE6#32
  | 50 => 0x33BE6AE7#32
  | 51 => 0xB3BD1A36#32
  | 52 => 0x33BBDB61#32
  | 53 => 0xB3BAADFB#32
  | 54 => 0x33B9919E#32
  | 55 => 0xB3B885EC#32
  | 56 => 0x33B78A8A#32
  | 57 => 0xB3B69F28#32
  | 58 => 0x33B5C377#32
  | 59 => 0xB3B4F732#32
  | 60 => 0x33B43A15#32
  | 61 => 0xB3B38BE5#32
  | 62 => 0x33B2EC6A#32
  | 63 => 0xB3B25B72#32
  | 64 => 0x33B1D8CF#32
  | 65 => 0xB3B16459#32
  | 66 => 0x33B0FDEA#32
  | 67 => 0xB3B0A563#32
  | 68 => 0x33B05AA9#32
  | 69 => 0xB3B01DA5#32
  | 70 => 0x33AFEE43#32
  | 71 => 0xB3AFCC75#32
  | 72 => 0x33AFB831#32
  | 73 => 0xB3AFB170#32
  | 74 => 0x33AFB831#32
  | 75 => 0xB3AFCC75#32
  | 76 => 0x33AFEE43#32
  | 77 => 0xB3B01DA5#32
  | 78 => 0x33B05AA9#32
  | 79 => 0xB3B0A563#32
  | 80 => 0x33B0FDEA#32
  | 81 => 0xB3B16459#32
  | 82 => 0x33B1D8CF#32
  | 83 => 0xB3B25B72#32
  | 84 => 0x33B2EC6A#32
  | 85 => 0xB3B38BE5#32
  | 86 => 0x33B43A15#32
  | 87 => 0xB3B4F732#32
  | 88 => 0x33B5C377#32
  | 89 => 0xB3B69F28#32
  | 90 => 0x33B78A8A#32
  | 91 => 0xB3B885EC#32
  | 92 => 0x33B9919E#32
  | 93 => 0xB3BAADFB#32
  | 94 => 0x33BBDB61#32
  | 95 => 0xB3BD1A36#32
  | 96 => 0x33BE6AE7#32
  | 97 => 0xB3BFCDE6#32
  | 98 => 0x33C143B0#32
  | 99 => 0xB3C2CCC7#32
  | 100 => 0x33C469B8#32
  | 101 => 0xB3C61B15#32
  | 102 => 0x33C7E17D#32
  | 103 => 0xB3C9BD97#32
  | 104 => 0x33CBB015#32
  | 105 => 0xB3CDB9B1#32
  | 106 => 0x33CFDB34#32
  | 107 => 0xB3D21572#32
  | 108 => 0x33D4694B#32
  | 109 => 0xB3D6D7AE#32
  | 110 => 0x33D96196#32
  | 111 => 0xB3DC0810#32
  | 112 => 0x33DECC38#32
  | 113 => 0xB3E1AF3D#32
  | 114 => 0x33E4B25D#32
  | 115 => 0xB3E7D6EF#32
  | 116 => 0x33EB1E5A#32
  | 117 => 0xB3EE8A1F#32
  | 118 => 0x33F21BD6#32
  | 119 => 0xB3F5D532#32
  | 120 => 0x33F9B800#32
  | 121 => 0xB3FDC62E#32
  | 122 => 0x340100E3#32
  | 123 => 0xB403367C#32
  | 124 => 0x3405850C#32
  | 125 => 0xB407EDD1#32
  | 126 => 0x340A721F#32
  | 127 => 0xB40D1360#32
  | _ => 0#32

noncomputable abbrev lit0t0_148 (i : Nat) : BitVec 32 := match i % 128 with
  | 0 => 0xB40D1360#32
  | 1 => 0x340FD31A#32
  | 2 => 0xB412B2ED#32
  | 3 => 0x3415B495#32
  | 4 => 0xB418D9F0#32
  | 5 => 0x341C2500#32
  | 6 => 0xB41F97EA#32
  | 7 => 0x342334FF#32
  | 8 => 0xB426FEBD#32
  | 9 => 0x342AF7D2#32
  | 10 => 0xB42F2322#32
  | 11 => 0x343383CC#32
  | 12 => 0xB4381D32#32
  | 13 => 0x343CF2FA#32
  | 14 => 0xB4420919#32
  | 15 => 0x344763DA#32
  | 16 => 0xB44D07E6#32
  | 17 => 0x3452FA51#32
  | 18 => 0xB45940A1#32
  | 19 => 0x345FE0DA#32
  | 20 => 0xB466E193#32
  | 21 => 0x346E49FF#32
  | 22 => 0xB4762200#32
  | 23 => 0x347E723F#32
  | 24 => 0xB483A221#32
  | 25 => 0x34885143#32
  | 26 => 0xB48D4C4D#32
  | 27 => 0x349299A5#32
  | 28 => 0xB4984061#32
  | 29 => 0x349E485F#32
  | 30 => 0xB4A4BA5F#32
  | 31 => 0x34ABA023#32
  | 32 => 0xB4B30492#32
  | 33 => 0x34BAF3E5#32
  | 34 => 0xB4C37BD6#32
  | 35 => 0x34CCABDA#32
  | 36 => 0xB4D69568#32
  | 37 => 0x34E14C49#32
  | 38 => 0xB4ECE6F7#32
  | 39 => 0x34F97F13#32
  | 40 => 0xB50398F7#32
  | 41 => 0x350B1097#32
  | 42 => 0xB51339CD#32
  | 43 => 0x351C2B08#32
  | 44 => 0xB525FE56#32
  | 45 => 0x3530D21D#32
  | 46 => 0xB53CCA00#32
  | 47 => 0x354A0FF9#32
  | 48 => 0xB558D5BB#32
  | 49 => 0x35695670#32
  | 50 => 0xB57BD8F1#32
  | 51 => 0x3588594C#32
  | 52 => 0xB5942572#32
  | 53 => 0x35A19018#32
  | 54 => 0xB5B0E6EF#32
  | 55 => 0x35C28A3B#32
  | 56 => 0xB5D6F23A#32
  | 57 => 0x35EEB658#32
  | 58 => 0xB6054B76#32
  | 59 => 0x3615C529#32
  | 60 => 0xB6296767#32
  | 61 => 0x3641014B#32
  | 62 => 0xB65DA20C#32
  | 63 => 0x368056F2#32
  | 64 => 0xB695FBC4#32
  | 65 => 0x36B0ED61#32
  | 66 => 0xB6D29E9B#32
  | 67 => 0x36FFBDB2#32
  | 68 => 0xB692EE32#32
  | 69 => 0x391EBB1A#32
  | 70 => 0x3B12D0DF#32
  | 71 => 0x3CA0086D#32
  | 72 => 0x3DBAD58B#32
  | 73 => 0x3E6BB748#32
  | 74 => 0x3EA069FE#32
  | 75 => 0x3E6BB748#32
  | 76 => 0x3DBAD58B#32
  | 77 => 0x3CA0086D#32
  | 78 => 0x3B12D0DF#32
  | 79 => 0x391EBB1A#32
  | 80 => 0xB692EE32#32
  | 81 => 0x36FFBDB2#32
  | 82 => 0xB6D29E9B#32
  | 83 => 0x36B0ED61#32
  | 84 => 0xB695FBC4#32
  | 85 => 0x368056F2#32
  | 86 => 0xB65DA20C#32
  | 87 => 0x3641014B#32
  | 88 => 0xB6296767#32
  | 89 => 0x3615C529#32
  | 90 => 0xB6054B76#32
  | 91 => 0x35EEB658#32
  | 92 => 0xB5D6F23A#32
  | 93 => 0x35C28A3B#32
  | 94 => 0xB5B0E6EF#32
  | 95 => 0x35A19018#32
  | 96 => 0xB5942572#32
  | 97 => 0x3588594C#32
  | 98 => 0xB57BD8F1#32
  | 99 => 0x35695670#32
  | 100 => 0xB558D5BB#32
  | 101 => 0x354A0FF9#32
  | 102 => 0xB53CCA00#32
  | 103 => 0x3530D21D#32
  | 104 => 0xB525FE56#32
  | 105 => 0x351C2B08#32
  | 106 => 0xB51339CD#32
  | 107 => 0x350B1097#32
  | 108 => 0xB50398F7#32
  | 109 => 0x34F97F13#32
  | 110 => 0xB4ECE6F7#32
  | 111 => 0x34E14C49#32
  | 112 => 0xB4D69568#32
  | 113 => 0x34CCABDA#32
  | 114 => 0xB4C37BD6#32
  | 115 => 0x34BAF3E5#32
  | 116 => 0xB4B30492#32
  | 117 => 0x34ABA023#32
  | 118 => 0xB4A4BA5F#32
  | 119 => 0x349E485F#32
  | 120 => 0xB4984061#32
  | 121 => 0x349299A5#32
  | 122 => 0xB48D4C4D#32
  | 123 => 0x34885143#32
  | 124 => 0xB483A221#32
  | 125 => 0x347E723F#32
  | 126 => 0xB4762200#32
  | 127 => 0x346E49FF#32
  | _ => 0#32

noncomputable abbrev lit0t0_149 (i : Nat) : BitVec 32 := match i % 128 with
  | 0 => 0xB466E193#32
  | 1 => 0x345FE0DA#32
  | 2 => 0xB45940A1#32
  | 3 => 0x3452FA51#32
  | 4 => 0xB44D07E6#32
  | 5 => 0x344763DA#32
  | 6 => 0xB4420919#32
  | 7 => 0x343CF2FA#32
  | 8 => 0xB4381D32#32
  | 9 => 0x343383CC#32
  | 10 => 0xB42F2322#32
  | 11 => 0x342AF7D2#32
  | 12 => 0xB426FEBD#32
  | 13 => 0x342334FF#32
  | 14 => 0xB41F97EA#32
  | 15 => 0x341C2500#32
  | 16 => 0xB418D9F0#32
  | 17 => 0x3415B495#32
  | 18 => 0xB412B2ED#32
  | 19 => 0x340FD31A#32
  | 20 => 0xB40D1360#32
  | 21 => 0x340A721F#32
  | 22 => 0xB407EDD1#32
  | 23 => 0x3405850C#32
  | 24 => 0xB403367C#32
  | 25 => 0x340100E3#32
  | 26 => 0xB3FDC62E#32
  | 27 => 0x33F9B800#32
  | 28 => 0xB3F5D532#32
  | 29 => 0x33F21BD6#32
  | 30 => 0xB3EE8A1F#32
  | 31 => 0x33EB1E5A#32
  | 32 => 0xB3E7D6EF#32
  | 33 => 0x33E4B25D#32
  | 34 => 0xB3E1AF3D#32
  | 35 => 0x33DECC38#32
  | 36 => 0xB3DC0810#32
  | 37 => 0x33D96196#32
  | 38 => 0xB3D6D7AE#32
  | 39 => 0x33D4694B#32
  | 40 => 0xB3D21572#32
  | 41 => 0x33CFDB34#32
  | 42 => 0xB3CDB9B1#32
  | 43 => 0x33CBB015#32
  | 44 => 0xB3C9BD97#32
  | 45 => 0x33C7E17D#32
  | 46 => 0xB3C61B15#32
  | 47 => 0x33C469B8#32
  | 48 => 0xB3C2CCC7#32
  | 49 => 0x33C143B0#32
  | 50 => 0xB3BFCDE6#32
  | 51 => 0x33BE6AE7#32
  | 52 => 0xB3BD1A36#32
  | 53 => 0x33BBDB61#32
  | 54 => 0xB3BAADFB#32
  | 55 => 0x33B9919E#32
  | 56 => 0xB3B885EC#32
  | 57 => 0x33B78A8A#32
  | 58 => 0xB3B69F28#32
  | 59 => 0x33B5C377#32
  | 60 => 0xB3B4F732#32
  | 61 => 0x33B43A15#32
  | 62 => 0xB3B38BE5#32
  | 63 => 0x33B2EC6A#32
  | 64 => 0xB3B25B72#32
  | 65 => 0x33B1D8CF#32
  | 66 => 0xB3B16459#32
  | 67 => 0x33B0FDEA#32
  | 68 => 0xB3B0A563#32
  | 69 => 0x33B05AA9#32
  | 70 => 0xB3B01DA5#32
  | 71 => 0x33AFEE43#32
  | 72 => 0xB3AFCC75#32
  | 73 => 0x33AFB831#32
  | 74 => 0xB3AFB170#32
  | 75 => 0x33AFB831#32
  | 76 => 0xB3AFCC75#32
  | 77 => 0x33AFEE43#32
  | 78 => 0xB3B01DA5#32
  | 79 => 0x33B05AA9#32
  | 80 => 0xB3B0A563#32
  | 81 => 0x33B0FDEA#32
  | 82 => 0xB3B16459#32
  | 83 => 0x33B1D8CF#32
  | 84 => 0xB3B25B72#32
  | 85 => 0x33B2EC6A#32
  | 86 => 0xB3B38BE5#32
  | 87 => 0x33B43A15#32
  | 88 => 0xB3B4F732#32
  | 89 => 0x33B5C377#32
  | 90 => 0xB3B69F28#32
  | 91 => 0x33B78A8A#32
  | 92 => 0xB3B885EC#32
  | 93 => 0x33B9919E#32
  | 94 => 0xB3BAADFB#32
  | 95 => 0x33BBDB61#32
  | 96 => 0xB3BD1A36#32
  | 97 => 0x33BE6AE7#32
  | 98 => 0xB3BFCDE6#32
  | 99 => 0x33C143B0#32
  | 100 => 0xB3C2CCC7#32
  | 101 => 0x33C469B8#32
  | 102 => 0xB3C61B15#32
  | 103 => 0x33C7E17D#32
  | 104 => 0xB3C9BD97#32
  | 105 => 0x33CBB015#32
  | 106 => 0xB3CDB9B1#32
  | 107 => 0x33CFDB34#32
  | 108 => 0xB3D21572#32
  | 109 => 0x33D4694B#32
  | 110 => 0xB3D6D7AE#32
  | 111 => 0x33D96196#32
  | 112 => 0xB3DC0810#32
  | 113 => 0x33DECC38#32
  | 114 => 0xB3E1AF3D#32
  | 115 => 0x33E4B25D#32
  | 116 => 0xB3E7D6EF#32
  | 117 => 0x33EB1E5A#32
  | 118 => 0xB3EE8A1F#32
  | 119 => 0x33F21BD6#32
  | 120 => 0xB3F5D532#32
  | 121 => 0x33F9B800#32
  | 122 => 0xB3FDC62E#32
  | 123 => 0x340100E3#32
  | 124 => 0xB403367C#32
  | 125 => 0x3405850C#32
  | 126 => 0xB407EDD1#32
  | 127 => 0x340A721F#32
  | _ => 0#32

noncomputable abbrev lit0t0_150 (i : Nat) : BitVec 32 := match i % 128 with
  | 0 => 0x340A721F#32
  | 1 => 0xB40D1360#32
  | 2 => 0x340FD31A#32
  | 3 => 0xB412B2ED#32
  | 4 => 0x3415B495#32
  | 5 => 0xB418D9F0#32
  | 6 => 0x341C2500#32
  | 7 => 0xB41F97EA#32
  | 8 => 0x342334FF#32
  | 9 => 0xB426FEBD#32
  | 10 => 0x342AF7D2#32
  | 11 => 0xB42F2322#32
  | 12 => 0x343383CC#32
  | 13 => 0xB4381D32#32
  | 14 => 0x343CF2FA#32
  | 15 => 0xB4420919#32
  | 16 => 0x344763DA#32
  | 17 => 0xB44D07E6#32
  | 18 => 0x3452FA51#32
  | 19 => 0xB45940A1#32
  | 20 => 0x345FE0DA#32
  | 21 => 0xB466E193#32
  | 22 => 0x346E49FF#32
  | 23 => 0xB4762200#32
  | 24 => 0x347E723F#32
  | 25 => 0xB483A221#32
  | 26 => 0x34885143#32
  | 27 => 0xB48D4C4D#32
  | 28 => 0x349299A5#32
  | 29 => 0xB4984061#32
  | 30 => 0x349E485F#32
  | 31 => 0xB4A4BA5F#32
  | 32 => 0x34ABA023#32
  | 33 => 0xB4B30492#32
  | 34 => 0x34BAF3E5#32
  | 35 => 0xB4C37BD6#32
  | 36 => 0x34CCABDA#32
  | 37 => 0xB4D69568#32
  | 38 => 0x34E14C49#32
  | 39 => 0xB4ECE6F7#32
  | 40 => 0x34F97F13#32
  | 41 => 0xB50398F7#32
  | 42 => 0x350B1097#32
  | 43 => 0xB51339CD#32
  | 44 => 0x351C2B08#32
  | 45 => 0xB525FE56#32
  | 46 => 0x3530D21D#32
  | 47 => 0xB53CCA00#32
  | 48 => 0x354A0FF9#32
  | 49 => 0xB558D5BB#32
  | 50 => 0x35695670#32
  | 51 => 0xB57BD8F1#32
  | 52 => 0x3588594C#32
  | 53 => 0xB5942572#32
  | 54 => 0x35A19018#32
  | 55 => 0xB5B0E6EF#32
  | 56 => 0x35C28A3B#32
  | 57 => 0xB5D6F23A#32
  | 58 => 0x35EEB658#32
  | 59 => 0xB6054B76#32
  | 60 => 0x3615C529#32
  | 61 => 0xB6296767#32
  | 62 => 0x3641014B#32
  | 63 => 0xB65DA20C#32
  | 64 => 0x368056F2#32
  | 65 => 0xB695FBC4#32
  | 66 => 0x36B0ED61#32
  | 67 => 0xB6D29E9B#32
  | 68 => 0x36FFBDB2#32
  | 69 => 0xB692EE32#32
  | 70 => 0x391EBB1A#32
  | 71 => 0x3B12D0DF#32
  | 72 => 0x3CA0086D#32
  | 73 => 0x3DBAD58B#32
  | 74 => 0x3E6BB748#32
  | 75 => 0x3EA069FE#32
  | 76 => 0x3E6BB748#32
  | 77 => 0x3DBAD58B#32
  | 78 => 0x3CA0086D#32
  | 79 => 0x3B12D0DF#32
  | 80 => 0x391EBB1A#32
  | 81 => 0xB692EE32#32
  | 82 => 0x36FFBDB2#32
  | 83 => 0xB6D29E9B#32
  | 84 => 0x36B0ED61#32
  | 85 => 0xB695FBC4#32
  | 86 => 0x368056F2#32
  | 87 => 0xB65DA20C#32
  | 88 => 0x3641014B#32
  | 89 => 0xB6296767#32
  | 90 => 0x3615C529#32
  | 91 => 0xB6054B76#32
  | 92 => 0x35EEB658#32
  | 93 => 0xB5D6F23A#32
  | 94 => 0x35C28A3B#32
  | 95 => 0xB5B0E6EF#32
  | 96 => 0x35A19018#32
  | 97 => 0xB5942572#32
  | 98 => 0x3588594C#32
  | 99 => 0xB57BD8F1#32
  | 100 => 0x35695670#32
  | 101 => 0xB558D5BB#32
  | 102 => 0x354A0FF9#32
  | 103 => 0xB53CCA00#32
  | 104 => 0x3530D21D#32
  | 105 => 0xB525FE56#32
  | 106 => 0x351C2B08#32
  | 107 => 0xB51339CD#32
  | 108 => 0x350B1097#32
  | 109 => 0xB50398F7#32
  | 110 => 0x34F97F13#32
  | 111 => 0xB4ECE6F7#32
  | 112 => 0x34E14C49#32
  | 113 => 0xB4D69568#32
  | 114 => 0x34CCABDA#32
  | 115 => 0xB4C37BD6#32
  | 116 => 0x34BAF3E5#32
  | 117 => 0xB4B30492#32
  | 118 => 0x34ABA023#32
  | 119 => 0xB4A4BA5F#32
  | 120 => 0x349E485F#32
  | 121 => 0xB4984061#32
  | 122 => 0x349299A5#32
  | 123 => 0xB48D4C4D#32
  | 124 => 0x34885142#32
  | 125 => 0xB483A221#32
  | 126 => 0x347E723F#32
  | 127 => 0xB4762200#32
  | _ => 0#32

noncomputable abbrev lit0t0_151 (i : Nat) : BitVec 32 := match i % 128 with
  | 0 => 0x346E49FF#32
  | 1 => 0xB466E193#32
  | 2 => 0x345FE0DA#32
  | 3 => 0xB45940A1#32
  | 4 => 0x3452FA51#32
  | 5 => 0xB44D07E6#32
  | 6 => 0x344763DA#32
  | 7 => 0xB4420919#32
  | 8 => 0x343CF2FA#32
  | 9 => 0xB4381D32#32
  | 10 => 0x343383CC#32
  | 11 => 0xB42F2322#32
  | 12 => 0x342AF7D2#32
  | 13 => 0xB426FEBD#32
  | 14 => 0x342334FF#32
  | 15 => 0xB41F97EA#32
  | 16 => 0x341C2500#32
  | 17 => 0xB418D9F0#32
  | 18 => 0x3415B495#32
  | 19 => 0xB412B2ED#32
  | 20 => 0x340FD31A#32
  | 21 => 0xB40D1360#32
  | 22 => 0x340A721F#32
  | 23 => 0xB407EDD1#32
  | 24 => 0x3405850C#32
  | 25 => 0xB403367C#32
  | 26 => 0x340100E3#32
  | 27 => 0xB3FDC62E#32
  | 28 => 0x33F9B800#32
  | 29 => 0xB3F5D532#32
  | 30 => 0x33F21BD6#32
  | 31 => 0xB3EE8A1F#32
  | 32 => 0x33EB1E5A#32
  | 33 => 0xB3E7D6EF#32
  | 34 => 0x33E4B25D#32
  | 35 => 0xB3E1AF3D#32
  | 36 => 0x33DECC38#32
  | 37 => 0xB3DC0810#32
  | 38 => 0x33D96196#32
  | 39 => 0xB3D6D7AE#32
  | 40 => 0x33D4694B#32
  | 41 => 0xB3D21572#32
  | 42 => 0x33CFDB34#32
  | 43 => 0xB3CDB9B1#32
  | 44 => 0x33CBB015#32
  | 45 => 0xB3C9BD97#32
  | 46 => 0x33C7E17D#32
  | 47 => 0xB3C61B15#32
  | 48 => 0x33C469B8#32
  | 49 => 0xB3C2CCC7#32
  | 50 => 0x33C143B0#32
  | 51 => 0xB3BFCDE6#32
  | 52 => 0x33BE6AE7#32
  | 53 => 0xB3BD1A36#32
  | 54 => 0x33BBDB61#32
  | 55 => 0xB3BAADFB#32
  | 56 => 0x33B9919E#32
  | 57 => 0xB3B885EC#32
  | 58 => 0x33B78A8A#32
  | 59 => 0xB3B69F28#32
  | 60 => 0x33B5C377#32
  | 61 => 0xB3B4F732#32
  | 62 => 0x33B43A15#32
  | 63 => 0xB3B38BE5#32
  | 64 => 0x33B2EC6A#32
  | 65 => 0xB3B25B72#32
  | 66 => 0x33B1D8CF#32
  | 67 => 0xB3B16459#32
  | 68 => 0x33B0FDEA#32
  | 69 => 0xB3B0A563#32
  | 70 => 0x33B05AA9#32
  | 71 => 0xB3B01DA5#32
  | 72 => 0x33AFEE43#32
  | 73 => 0xB3AFCC75#32
  | 74 => 0x33AFB831#32
  | 75 => 0xB3AFB170#32
  | 76 => 0x33AFB831#32
  | 77 => 0xB3AFCC75#32
  | 78 => 0x33AFEE43#32
  | 79 => 0xB3B01DA5#32
  | 80 => 0x33B05AA9#32
  | 81 => 0xB3B0A563#32
  | 82 => 0x33B0FDEA#32
  | 83 => 0xB3B16459#32
  | 84 => 0x33B1D8CF#32
  | 85 => 0xB3B25B72#32
  | 86 => 0x33B2EC6A#32
  | 87 => 0xB3B38BE5#32
  | 88 => 0x33B43A15#32
  | 89 => 0xB3B4F732#32
  | 90 => 0x33B5C377#32
  | 91 => 0xB3B69F28#32
  | 92 => 0x33B78A8A#32
  | 93 => 0xB3B885EC#32
  | 94 => 0x33B9919E#32
  | 95 => 0xB3BAADFB#32
  | 96 => 0x33BBDB61#32
  | 97 => 0xB3BD1A36#32
  | 98 => 0x33BE6AE7#32
  | 99 => 0xB3BFCDE6#32
  | 100 => 0x33C143B0#32
  | 101 => 0xB3C2CCC7#32
  | 102 => 0x33C469B8#32
  | 103 => 0xB3C61B15#32
  | 104 => 0x33C7E17D#32
  | 105 => 0xB3C9BD97#32
  | 106 => 0x33CBB015#32
  | 107 => 0xB3CDB9B1#32
  | 108 => 0x33CFDB34#32
  | 109 => 0xB3D21572#32
  | 110 => 0x33D4694B#32
  | 111 => 0xB3D6D7AE#32
  | 112 => 0x33D96196#32
  | 113 => 0xB3DC0810#32
  | 114 => 0x33DECC38#32
  | 115 => 0xB3E1AF3D#32
  | 116 => 0x33E4B25D#32
  | 117 => 0xB3E7D6EF#32
  | 118 => 0x33EB1E5A#32
  | 119 => 0xB3EE8A1F#32
  | 120 => 0x33F21BD6#32
  | 121 => 0xB3F5D532#32
  | 122 => 0x33F9B800#32
  | 123 => 0xB3FDC62E#32
  | 124 => 0x340100E3#32
  | 125 => 0xB403367C#32
  | 126 => 0x3405850C#32
  | 127 => 0xB407EDD1#32
  | _ => 0#32

noncomputable abbrev lit0t0_152 (i : Nat) : BitVec 32 := match i % 128 with
  | 0 => 0xB407EDD1#32
  | 1 => 0x340A721F#32
  | 2 => 0xB40D1360#32
  | 3 => 0x340FD31A#32
  | 4 => 0xB412B2ED#32
  | 5 => 0x3415B495#32
  | 6 => 0xB418D9F0#32
  | 7 => 0x341C2500#32
  | 8 => 0xB41F97EA#32
  | 9 => 0x342334FF#32
  | 10 => 0xB426FEBD#32
  | 11 => 0x342AF7D2#32
  | 12 => 0xB42F2322#32
  | 13 => 0x343383CC#32
  | 14 => 0xB4381D32#32
  | 15 => 0x343CF2FA#32
  | 16 => 0xB4420919#32
  | 17 => 0x344763DA#32
  | 18 => 0xB44D07E6#32
  | 19 => 0x3452FA51#32
  | 20 => 0xB45940A1#32
  | 21 => 0x345FE0DA#32
  | 22 => 0xB466E193#32
  | 23 => 0x346E49FF#32
  | 24 => 0xB4762200#32
  | 25 => 0x347E723F#32
  | 26 => 0xB483A221#32
  | 27 => 0x34885142#32
  | 28 => 0xB48D4C4D#32
  | 29 => 0x349299A5#32
  | 30 => 0xB4984061#32
  | 31 => 0x349E485F#32
  | 32 => 0xB4A4BA5F#32
  | 33 => 0x34ABA023#32
  | 34 => 0xB4B30492#32
  | 35 => 0x34BAF3E5#32
  | 36 => 0xB4C37BD6#32
  | 37 => 0x34CCABDA#32
  | 38 => 0xB4D69568#32
  | 39 => 0x34E14C49#32
  | 40 => 0xB4ECE6F7#32
  | 41 => 0x34F97F13#32
  | 42 => 0xB50398F7#32
  | 43 => 0x350B1097#32
  | 44 => 0xB51339CD#32
  | 45 => 0x351C2B08#32
  | 46 => 0xB525FE56#32
  | 47 => 0x3530D21D#32
  | 48 => 0xB53CCA00#32
  | 49 => 0x354A0FF9#32
  | 50 => 0xB558D5BB#32
  | 51 => 0x35695670#32
  | 52 => 0xB57BD8F1#32
  | 53 => 0x3588594C#32
  | 54 => 0xB5942572#32
  | 55 => 0x35A19018#32
  | 56 => 0xB5B0E6EF#32
  | 57 => 0x35C28A3B#32
  | 58 => 0xB5D6F23A#32
  | 59 => 0x35EEB658#32
  | 60 => 0xB6054B76#32
  | 61 => 0x3615C529#32
  | 62 => 0xB6296767#32
  | 63 => 0x3641014B#32
  | 64 => 0xB65DA20C#32
  | 65 => 0x368056F2#32
  | 66 => 0xB695FBC4#32
  | 67 => 0x36B0ED61#32
  | 68 => 0xB6D29E9B#32
  | 69 => 0x36FFBDB2#32
  | 70 => 0xB692EE32#32
  | 71 => 0x391EBB1A#32
  | 72 => 0x3B12D0DF#32
  | 73 => 0x3CA0086D#32
  | 74 => 0x3DBAD58B#32
  | 75 => 0x3E6BB748#32
  | 76 => 0x3EA069FE#32
  | 77 => 0x3E6BB748#32
  | 78 => 0x3DBAD58B#32
  | 79 => 0x3CA0086D#32
  | 80 => 0x3B12D0DF#32
  | 81 => 0x391EBB1A#32
  | 82 => 0xB692EE32#32
  | 83 => 0x36FFBDB2#32
  | 84 => 0xB6D29E9B#32
  | 85 => 0x36B0ED61#32
  | 86 => 0xB695FBC4#32
  | 87 => 0x368056F2#32
  | 88 => 0xB65DA20C#32
  | 89 => 0x3641014B#32
  | 90 => 0xB6296767#32
  | 91 => 0x3615C529#32
  | 92 => 0xB6054B76#32
  | 93 => 0x35EEB658#32
  | 94 => 0xB5D6F23A#32
  | 95 => 0x35C28A3B#32
  | 96 => 0xB5B0E6EF#32
  | 97 => 0x35A19018#32
  | 98 => 0xB5942572#32
  | 99 => 0x3588594C#32
  | 100 => 0xB57BD8F1#32
  | 101 => 0x35695670#32
  | 102 => 0xB558D5BB#32
  | 103 => 0x354A0FF9#32
  | 104 => 0xB53CCA00#32
  | 105 => 0x3530D21D#32
  | 106 => 0xB525FE56#32
  | 107 => 0x351C2B08#32
  | 108 => 0xB51339CD#32
  | 109 => 0x350B1097#32
  | 110 => 0xB50398F7#32
  | 111 => 0x34F97F13#32
  | 112 => 0xB4ECE6F7#32
  | 113 => 0x34E14C49#32
  | 114 => 0xB4D69568#32
  | 115 => 0x34CCABDA#32
  | 116 => 0xB4C37BD6#32
  | 117 => 0x34BAF3E5#32
  | 118 => 0xB4B30492#32
  | 119 => 0x34ABA023#32
  | 120 => 0xB4A4BA5F#32
  | 121 => 0x349E485F#32
  | 122 => 0xB4984061#32
  | 123 => 0x349299A5#32
  | 124 => 0xB48D4C4D#32
  | 125 => 0x34885142#32
  | 126 => 0xB483A221#32
  | 127 => 0x347E723F#32
  | _ => 0#32

noncomputable abbrev lit0t0_153 (i : Nat) : BitVec 32 := match i % 128 with
  | 0 => 0xB4762200#32
  | 1 => 0x346E49FF#32
  | 2 => 0xB466E193#32
  | 3 => 0x345FE0DA#32
  | 4 => 0xB45940A1#32
  | 5 => 0x3452FA51#32
  | 6 => 0xB44D07E6#32
  | 7 => 0x344763DA#32
  | 8 => 0xB4420919#32
  | 9 => 0x343CF2FA#32
  | 10 => 0xB4381D32#32
  | 11 => 0x343383CC#32
  | 12 => 0xB42F2322#32
  | 13 => 0x342AF7D2#32
  | 14 => 0xB426FEBD#32
  | 15 => 0x342334FF#32
  | 16 => 0xB41F97EA#32
  | 17 => 0x341C2500#32
  | 18 => 0xB418D9F0#32
  | 19 => 0x3415B495#32
  | 20 => 0xB412B2ED#32
  | 21 => 0x340FD31A#32
  | 22 => 0xB40D1360#32
  | 23 => 0x340A721F#32
  | 24 => 0xB407EDD1#32
  | 25 => 0x3405850C#32
  | 26 => 0xB403367C#32
  | 27 => 0x340100E3#32
  | 28 => 0xB3FDC62E#32
  | 29 => 0x33F9B800#32
  | 30 => 0xB3F5D532#32
  | 31 => 0x33F21BD6#32
  | 32 => 0xB3EE8A1F#32
  | 33 => 0x33EB1E5A#32
  | 34 => 0xB3E7D6EF#32
  | 35 => 0x33E4B25D#32
  | 36 => 0xB3E1AF3D#32
  | 37 => 0x33DECC38#32
  | 38 => 0xB3DC0810#32
  | 39 => 0x33D96196#32
  | 40 => 0xB3D6D7AE#32
  | 41 => 0x33D4694B#32
  | 42 => 0xB3D21572#32
  | 43 => 0x33CFDB34#32
  | 44 => 0xB3CDB9B1#32
  | 45 => 0x33CBB015#32
  | 46 => 0xB3C9BD97#32
  | 47 => 0x33C7E17D#32
  | 48 => 0xB3C61B15#32
  | 49 => 0x33C469B8#32
  | 50 => 0xB3C2CCC7#32
  | 51 => 0x33C143B0#32
  | 52 => 0xB3BFCDE6#32
  | 53 => 0x33BE6AE7#32
  | 54 => 0xB3BD1A36#32
  | 55 => 0x33BBDB61#32
  | 56 => 0xB3BAADFB#32
  | 57 => 0x33B9919E#32
  | 58 => 0xB3B885EC#32
  | 59 => 0x33B78A8A#32
  | 60 => 0xB3B69F28#32
  | 61 => 0x33B5C377#32
  | 62 => 0xB3B4F732#32
  | 63 => 0x33B43A15#32
  | 64 => 0xB3B38BE5#32
  | 65 => 0x33B2EC6A#32
  | 66 => 0xB3B25B72#32
  | 67 => 0x33B1D8CF#32
  | 68 => 0xB3B16459#32
  | 69 => 0x33B0FDEA#32
  | 70 => 0xB3B0A563#32
  | 71 => 0x33B05AA9#32
  | 72 => 0xB3B01DA5#32
  | 73 => 0x33AFEE43#32
  | 74 => 0xB3AFCC75#32
  | 75 => 0x33AFB831#32
  | 76 => 0xB3AFB170#32
  | 77 => 0x33AFB831#32
  | 78 => 0xB3AFCC75#32
  | 79 => 0x33AFEE43#32
  | 80 => 0xB3B01DA5#32
  | 81 => 0x33B05AA9#32
  | 82 => 0xB3B0A563#32
  | 83 => 0x33B0FDEA#32
  | 84 => 0xB3B16459#32
  | 85 => 0x33B1D8CF#32
  | 86 => 0xB3B25B72#32
  | 87 => 0x33B2EC6A#32
  | 88 => 0xB3B38BE5#32
  | 89 => 0x33B43A15#32
  | 90 => 0xB3B4F732#32
  | 91 => 0x33B5C377#32
  | 92 => 0xB3B69F28#32
  | 93 => 0x33B78A8A#32
  | 94 => 0xB3B885EC#32
  | 95 => 0x33B9919E#32
  | 96 => 0xB3BAADFB#32
  | 97 => 0x33BBDB61#32
  | 98 => 0xB3BD1A36#32
  | 99 => 0x33BE6AE7#32
  | 100 => 0xB3BFCDE6#32
  | 101 => 0x33C143B0#32
  | 102 => 0xB3C2CCC7#32
  | 103 => 0x33C469B8#32
  | 104 => 0xB3C61B15#32
  | 105 => 0x33C7E17D#32
  | 106 => 0xB3C9BD97#32
  | 107 => 0x33CBB015#32
  | 108 => 0xB3CDB9B1#32
  | 109 => 0x33CFDB34#32
  | 110 => 0xB3D21572#32
  | 111 => 0x33D4694B#32
  | 112 => 0xB3D6D7AE#32
  | 113 => 0x33D96196#32
  | 114 => 0xB3DC0810#32
  | 115 => 0x33DECC38#32
  | 116 => 0xB3E1AF3D#32
  | 117 => 0x33E4B25D#32
  | 118 => 0xB3E7D6EF#32
  | 119 => 0x33EB1E5A#32
  | 120 => 0xB3EE8A1F#32
  | 121 => 0x33F21BD6#32
  | 122 => 0xB3F5D532#32
  | 123 => 0x33F9B800#32
  | 124 => 0xB3FDC62E#32
  | 125 => 0x340100E3#32
  | 126 => 0xB403367C#32
  | 127 => 0x3405850C#32
  | _ => 0#32

noncomputable abbrev lit0t0_154 (i : Nat) : BitVec 32 := match i % 128 with
  | 0 => 0x3405850C#32
  | 1 => 0xB407EDD1#32
  | 2 => 0x340A721F#32
  | 3 => 0xB40D1360#32
  | 4 => 0x340FD31A#32
  | 5 => 0xB412B2ED#32
  | 6 => 0x3415B495#32
  | 7 => 0xB418D9F0#32
  | 8 => 0x341C2500#32
  | 9 => 0xB41F97EA#32
  | 10 => 0x342334FF#32
  | 11 => 0xB426FEBD#32
  | 12 => 0x342AF7D2#32
  | 13 => 0xB42F2322#32
  | 14 => 0x343383CC#32
  | 15 => 0xB4381D32#32
  | 16 => 0x343CF2FA#32
  | 17 => 0xB4420919#32
  | 18 => 0x344763DA#32
  | 19 => 0xB44D07E6#32
  | 20 => 0x3452FA51#32
  | 21 => 0xB45940A1#32
  | 22 => 0x345FE0DA#32
  | 23 => 0xB466E193#32
  | 24 => 0x346E49FF#32
  | 25 => 0xB4762200#32
  | 26 => 0x347E723F#32
  | 27 => 0xB483A221#32
  | 28 => 0x34885142#32
  | 29 => 0xB48D4C4D#32
  | 30 => 0x349299A5#32
  | 31 => 0xB4984061#32
  | 32 => 0x349E485F#32
  | 33 => 0xB4A4BA5F#32
  | 34 => 0x34ABA023#32
  | 35 => 0xB4B30492#32
  | 36 => 0x34BAF3E5#32
  | 37 => 0xB4C37BD6#32
  | 38 => 0x34CCABDA#32
  | 39 => 0xB4D69568#32
  | 40 => 0x34E14C49#32
  | 41 => 0xB4ECE6F7#32
  | 42 => 0x34F97F13#32
  | 43 => 0xB50398F7#32
  | 44 => 0x350B1097#32
  | 45 => 0xB51339CD#32
  | 46 => 0x351C2B08#32
  | 47 => 0xB525FE56#32
  | 48 => 0x3530D21D#32
  | 49 => 0xB53CCA00#32
  | 50 => 0x354A0FF9#32
  | 51 => 0xB558D5BB#32
  | 52 => 0x35695670#32
  | 53 => 0xB57BD8F1#32
  | 54 => 0x3588594C#32
  | 55 => 0xB5942572#32
  | 56 => 0x35A19018#32
  | 57 => 0xB5B0E6EF#32
  | 58 => 0x35C28A3B#32
  | 59 => 0xB5D6F23A#32
  | 60 => 0x35EEB658#32
  | 61 => 0xB6054B76#32
  | 62 => 0x3615C529#32
  | 63 => 0xB6296767#32
  | 64 => 0x3641014B#32
  | 65 => 0xB65DA20C#32
  | 66 => 0x368056F2#32
  | 67 => 0xB695FBC4#32
  | 68 => 0x36B0ED61#32
  | 69 => 0xB6D29E9B#32
  | 70 => 0x36FFBDB2#32
  | 71 => 0xB692EE32#32
  | 72 => 0x391EBB1A#32
  | 73 => 0x3B12D0DF#32
  | 74 => 0x3CA0086D#32
  | 75 => 0x3DBAD58B#32
  | 76 => 0x3E6BB748#32
  | 77 => 0x3EA069FE#32
  | 78 => 0x3E6BB748#32
  | 79 => 0x3DBAD58B#32
  | 80 => 0x3CA0086D#32
  | 81 => 0x3B12D0DF#32
  | 82 => 0x391EBB1A#32
  | 83 => 0xB692EE32#32
  | 84 => 0x36FFBDB2#32
  | 85 => 0xB6D29E9B#32
  | 86 => 0x36B0ED61#32
  | 87 => 0xB695FBC4#32
  | 88 => 0x368056F2#32
  | 89 => 0xB65DA20C#32
  | 90 => 0x3641014B#32
  | 91 => 0xB6296767#32
  | 92 => 0x3615C529#32
  | 93 => 0xB6054B76#32
  | 94 => 0x35EEB658#32
  | 95 => 0xB5D6F23A#32
  | 96 => 0x35C28A3B#32
  | 97 => 0xB5B0E6EF#32
  | 98 => 0x35A19018#32
  | 99 => 0xB5942572#32
  | 100 => 0x3588594C#32
  | 101 => 0xB57BD8F1#32
  | 102 => 0x35695670#32
  | 103 => 0xB558D5BB#32
  | 104 => 0x354A0FF9#32
  | 105 => 0xB53CCA00#32
  | 106 => 0x3530D21D#32
  | 107 => 0xB525FE56#32
  | 108 => 0x351C2B08#32
  | 109 => 0xB51339CD#32
  | 110 => 0x350B1097#32
  | 111 => 0xB50398F7#32
  | 112 => 0x34F97F13#32
  | 113 => 0xB4ECE6F7#32
  | 114 => 0x34E14C49#32
  | 115 => 0xB4D69568#32
  | 116 => 0x34CCABDA#32
  | 117 => 0xB4C37BD6#32
  | 118 => 0x34BAF3E5#32
  | 119 => 0xB4B30492#32
  | 120 => 0x34ABA023#32
  | 121 => 0xB4A4BA5F#32
  | 122 => 0x349E485F#32
  | 123 => 0xB4984061#32
  | 124 => 0x349299A5#32
  | 125 => 0xB48D4C4D#32
  | 126 => 0x34885142#32
  | 127 => 0xB483A221#32
  | _ => 0#32

noncomputable abbrev lit0t0_155 (i : Nat) : BitVec 32 := match i % 128 with
  | 0 => 0x347E723F#32
  | 1 => 0xB4762200#32
  | 2 => 0x346E49FF#32
  | 3 => 0xB466E193#32
  | 4 => 0x345FE0DA#32
  | 5 => 0xB45940A1#32
  | 6 => 0x3452FA51#32
  | 7 => 0xB44D07E6#32
  | 8 => 0x344763DA#32
  | 9 => 0xB4420919#32
  | 10 => 0x343CF2FA#32
  | 11 => 0xB4381D32#32
  | 12 => 0x343383CC#32
  | 13 => 0xB42F2322#32
  | 14 => 0x342AF7D2#32
  | 15 => 0xB426FEBD#32
  | 16 => 0x342334FF#32
  | 17 => 0xB41F97EA#32
  | 18 => 0x341C2500#32
  | 19 => 0xB418D9F0#32
  | 20 => 0x3415B495#32
  | 21 => 0xB412B2ED#32
  | 22 => 0x340FD31A#32
  | 23 => 0xB40D1360#32
  | 24 => 0x340A721F#32
  | 25 => 0xB407EDD1#32
  | 26 => 0x3405850C#32
  | 27 => 0xB403367C#32
  | 28 => 0x340100E3#32
  | 29 => 0xB3FDC62E#32
  | 30 => 0x33F9B800#32
  | 31 => 0xB3F5D532#32
  | 32 => 0x33F21BD6#32
  | 33 => 0xB3EE8A1F#32
  | 34 => 0x33EB1E5A#32
  | 35 => 0xB3E7D6EF#32
  | 36 => 0x33E4B25D#32
  | 37 => 0xB3E1AF3D#32
  | 38 => 0x33DECC38#32
  | 39 => 0xB3DC0810#32
  | 40 => 0x33D96196#32
  | 41 => 0xB3D6D7AE#32
  | 42 => 0x33D4694B#32
  | 43 => 0xB3D21572#32
  | 44 => 0x33CFDB34#32
  | 45 => 0xB3CDB9B1#32
  | 46 => 0x33CBB015#32
  | 47 => 0xB3C9BD97#32
  | 48 => 0x33C7E17D#32
  | 49 => 0xB3C61B15#32
  | 50 => 0x33C469B8#32
  | 51 => 0xB3C2CCC7#32
  | 52 => 0x33C143B0#32
  | 53 => 0xB3BFCDE6#32
  | 54 => 0x33BE6AE7#32
  | 55 => 0xB3BD1A36#32
  | 56 => 0x33BBDB61#32
  | 57 => 0xB3BAADFB#32
  | 58 => 0x33B9919E#32
  | 59 => 0xB3B885EC#32
  | 60 => 0x33B78A8A#32
  | 61 => 0xB3B69F28#32
  | 62 => 0x33B5C377#32
  | 63 => 0xB3B4F732#32
  | 64 => 0x33B43A15#32
  | 65 => 0xB3B38BE5#32
  | 66 => 0x33B2EC6A#32
  | 67 => 0xB3B25B72#32
  | 68 => 0x33B1D8CF#32
  | 69 => 0xB3B16459#32
  | 70 => 0x33B0FDEA#32
  | 71 => 0xB3B0A563#32
  | 72 => 0x33B05AA9#32
  | 73 => 0xB3B01DA5#32
  | 74 => 0x33AFEE43#32
  | 75 => 0xB3AFCC75#32
  | 76 => 0x33AFB831#32
  | 77 => 0xB3AFB170#32
  | 78 => 0x33AFB831#32
  | 79 => 0xB3AFCC75#32
  | 80 => 0x33AFEE43#32
  | 81 => 0xB3B01DA5#32
  | 82 => 0x33B05AA9#32
  | 83 => 0xB3B0A563#32
  | 84 => 0x33B0FDEA#32
  | 85 => 0xB3B16459#32
  | 86 => 0x33B1D8CF#32
  | 87 => 0xB3B25B72#32
  | 88 => 0x33B2EC6A#32
  | 89 => 0xB3B38BE5#32
  | 90 => 0x33B43A15#32
  | 91 => 0xB3B4F732#32
  | 92 => 0x33B5C377#32
  | 93 => 0xB3B69F28#32
  | 94 => 0x33B78A8A#32
  | 95 => 0xB3B885EC#32
  | 96 => 0x33B9919E#32
  | 97 => 0xB3BAADFB#32
  | 98 => 0x33BBDB61#32
  | 99 => 0xB3BD1A36#32
  | 100 => 0x33BE6AE7#32
  | 101 => 0xB3BFCDE6#32
  | 102 => 0x33C143B0#32
  | 103 => 0xB3C2CCC7#32
  | 104 => 0x33C469B8#32
  | 105 => 0xB3C61B15#32
  | 106 => 0x33C7E17D#32
  | 107 => 0xB3C9BD97#32
  | 108 => 0x33CBB015#32
  | 109 => 0xB3CDB9B1#32
  | 110 => 0x33CFDB34#32
  | 111 => 0xB3D21572#32
  | 112 => 0x33D4694B#32
  | 113 => 0xB3D6D7AE#32
  | 114 => 0x33D96196#32
  | 115 => 0xB3DC0810#32
  | 116 => 0x33DECC38#32
  | 117 => 0xB3E1AF3D#32
  | 118 => 0x33E4B25D#32
  | 119 => 0xB3E7D6EF#32
  | 120 => 0x33EB1E5A#32
  | 121 => 0xB3EE8A1F#32
  | 122 => 0x33F21BD6#32
  | 123 => 0xB3F5D532#32
  | 124 => 0x33F9B800#32
  | 125 => 0xB3FDC62E#32
  | 126 => 0x340100E3#32
  | 127 => 0xB403367C#32
  | _ => 0#32

noncomputable abbrev lit0t0_156 (i : Nat) : BitVec 32 := match i % 128 with
  | 0 => 0xB403367C#32
  | 1 => 0x3405850C#32
  | 2 => 0xB407EDD1#32
  | 3 => 0x340A721F#32
  | 4 => 0xB40D1360#32
  | 5 => 0x340FD31A#32
  | 6 => 0xB412B2ED#32
  | 7 => 0x3415B495#32
  | 8 => 0xB418D9F0#32
  | 9 => 0x341C2500#32
  | 10 => 0xB41F97EA#32
  | 11 => 0x342334FF#32
  | 12 => 0xB426FEBD#32
  | 13 => 0x342AF7D2#32
  | 14 => 0xB42F2322#32
  | 15 => 0x343383CC#32
  | 16 => 0xB4381D32#32
  | 17 => 0x343CF2FA#32
  | 18 => 0xB4420919#32
  | 19 => 0x344763DA#32
  | 20 => 0xB44D07E6#32
  | 21 => 0x3452FA51#32
  | 22 => 0xB45940A1#32
  | 23 => 0x345FE0DA#32
  | 24 => 0xB466E193#32
  | 25 => 0x346E49FF#32
  | 26 => 0xB4762200#32
  | 27 => 0x347E723F#32
  | 28 => 0xB483A221#32
  | 29 => 0x34885142#32
  | 30 => 0xB48D4C4D#32
  | 31 => 0x349299A5#32
  | 32 => 0xB4984061#32
  | 33 => 0x349E485F#32
  | 34 => 0xB4A4BA5F#32
  | 35 => 0x34ABA023#32
  | 36 => 0xB4B30492#32
  | 37 => 0x34BAF3E5#32
  | 38 => 0xB4C37BD6#32
  | 39 => 0x34CCABDA#32
  | 40 => 0xB4D69568#32
  | 41 => 0x34E14C49#32
  | 42 => 0xB4ECE6F7#32
  | 43 => 0x34F97F13#32
  | 44 => 0xB50398F7#32
  | 45 => 0x350B1097#32
  | 46 => 0xB51339CD#32
  | 47 => 0x351C2B08#32
  | 48 => 0xB525FE56#32
  | 49 => 0x3530D21D#32
  | 50 => 0xB53CCA00#32
  | 51 => 0x354A0FF9#32
  | 52 => 0xB558D5BB#32
  | 53 => 0x35695670#32
  | 54 => 0xB57BD8F1#32
  | 55 => 0x3588594C#32
  | 56 => 0xB5942572#32
  | 57 => 0x35A19018#32
  | 58 => 0xB5B0E6EF#32
  | 59 => 0x35C28A3B#32
  | 60 => 0xB5D6F23A#32
  | 61 => 0x35EEB658#32
  | 62 => 0xB6054B76#32
  | 63 => 0x3615C529#32
  | 64 => 0xB6296767#32
  | 65 => 0x3641014B#32
  | 66 => 0xB65DA20C#32
  | 67 => 0x368056F2#32
  | 68 => 0xB695FBC4#32
  | 69 => 0x36B0ED61#32
  | 70 => 0xB6D29E9B#32
  | 71 => 0x36FFBDB2#32
  | 72 => 0xB692EE32#32
  | 73 => 0x391EBB1A#32
  | 74 => 0x3B12D0DF#32
  | 75 => 0x3CA0086D#32
  | 76 => 0x3DBAD58B#32
  | 77 => 0x3E6BB748#32
  | 78 => 0x3EA069FE#32
  | 79 => 0x3E6BB748#32
  | 80 => 0x3DBAD58B#32
  | 81 => 0x3CA0086D#32
  | 82 => 0x3B12D0DF#32
  | 83 => 0x391EBB1A#32
  | 84 => 0xB692EE32#32
  | 85 => 0x36FFBDB2#32
  | 86 => 0xB6D29E9B#32
  | 87 => 0x36B0ED61#32
  | 88 => 0xB695FBC4#32
  | 89 => 0x368056F2#32
  | 90 => 0xB65DA20C#32
  | 91 => 0x3641014B#32
  | 92 => 0xB6296767#32
  | 93 => 0x3615C529#32
  | 94 => 0xB6054B76#32
  | 95 => 0x35EEB658#32
  | 96 => 0xB5D6F23A#32
  | 97 => 0x35C28A3B#32
  | 98 => 0xB5B0E6EF#32
  | 99 => 0x35A19018#32
  | 100 => 0xB5942572#32
  | 101 => 0x3588594C#32
  | 102 => 0xB57BD8F1#32
  | 103 => 0x35695670#32
  | 104 => 0xB558D5BB#32
  | 105 => 0x354A0FF9#32
  | 106 => 0xB53CCA00#32
  | 107 => 0x3530D21D#32
  | 108 => 0xB525FE56#32
  | 109 => 0x351C2B08#32
  | 110 => 0xB51339CD#32
  | 111 => 0x350B1097#32
  | 112 => 0xB50398F7#32
  | 113 => 0x34F97F13#32
  | 114 => 0xB4ECE6F7#32
  | 115 => 0x34E14C49#32
  | 116 => 0xB4D69568#32
  | 117 => 0x34CCABDA#32
  | 118 => 0xB4C37BD6#32
  | 119 => 0x34BAF3E5#32
  | 120 => 0xB4B30492#32
  | 121 => 0x34ABA023#32
  | 122 => 0xB4A4BA5F#32
  | 123 => 0x349E485F#32
  | 124 => 0xB4984061#32
  | 125 => 0x349299A5#32
  | 126 => 0xB48D4C4D#32
  | 127 => 0x34885143#32
  | _ => 0#32

noncomputable abbrev lit0t0_157 (i : Nat) : BitVec 32 := match i % 128 with
  | 0 => 0xB483A221#32
  | 1 => 0x347E723F#32
  | 2 => 0xB4762200#32
  | 3 => 0x346E49FF#32
  | 4 => 0xB466E193#32
  | 5 => 0x345FE0DA#32
  | 6 => 0xB45940A1#32
  | 7 => 0x3452FA51#32
  | 8 => 0xB44D07E6#32
  | 9 => 0x344763DA#32
  | 10 => 0xB4420919#32
  | 11 => 0x343CF2FA#32
  | 12 => 0xB4381D32#32
  | 13 => 0x343383CC#32
  | 14 => 0xB42F2322#32
  | 15 => 0x342AF7D2#32
  | 16 => 0xB426FEBD#32
  | 17 => 0x342334FF#32
  | 18 => 0xB41F97EA#32
  | 19 => 0x341C2500#32
  | 20 => 0xB418D9F0#32
  | 21 => 0x3415B495#32
  | 22 => 0xB412B2ED#32
  | 23 => 0x340FD31A#32
  | 24 => 0xB40D1360#32
  | 25 => 0x340A721F#32
  | 26 => 0xB407EDD1#32
  | 27 => 0x3405850C#32
  | 28 => 0xB403367C#32
  | 29 => 0x340100E3#32
  | 30 => 0xB3FDC62E#32
  | 31 => 0x33F9B800#32
  | 32 => 0xB3F5D532#32
  | 33 => 0x33F21BD6#32
  | 34 => 0xB3EE8A1F#32
  | 35 => 0x33EB1E5A#32
  | 36 => 0xB3E7D6EF#32
  | 37 => 0x33E4B25D#32
  | 38 => 0xB3E1AF3D#32
  | 39 => 0x33DECC38#32
  | 40 => 0xB3DC0810#32
  | 41 => 0x33D96196#32
  | 42 => 0xB3D6D7AE#32
  | 43 => 0x33D4694B#32
  | 44 => 0xB3D21572#32
  | 45 => 0x33CFDB34#32
  | 46 => 0xB3CDB9B1#32
  | 47 => 0x33CBB015#32
  | 48 => 0xB3C9BD97#32
  | 49 => 0x33C7E17D#32
  | 50 => 0xB3C61B15#32
  | 51 => 0x33C469B8#32
  | 52 => 0xB3C2CCC7#32
  | 53 => 0x33C143B0#32
  | 54 => 0xB3BFCDE6#32
  | 55 => 0x33BE6AE7#32
  | 56 => 0xB3BD1A36#32
  | 57 => 0x33BBDB61#32
  | 58 => 0xB3BAADFB#32
  | 59 => 0x33B9919E#32
  | 60 => 0xB3B885EC#32
  | 61 => 0x33B78A8A#32
  | 62 => 0xB3B69F28#32
  | 63 => 0x33B5C377#32
  | 64 => 0xB3B4F732#32
  | 65 => 0x33B43A15#32
  | 66 => 0xB3B38BE5#32
  | 67 => 0x33B2EC6A#32
  | 68 => 0xB3B25B72#32
  | 69 => 0x33B1D8CF#32
  | 70 => 0xB3B16459#32
  | 71 => 0x33B0FDEA#32
  | 72 => 0xB3B0A563#32
  | 73 => 0x33B05AA9#32
  | 74 => 0xB3B01DA5#32
  | 75 => 0x33AFEE43#32
  | 76 => 0xB3AFCC75#32
  | 77 => 0x33AFB831#32
  | 78 => 0xB3AFB170#32
  | 79 => 0x33AFB831#32
  | 80 => 0xB3AFCC75#32
  | 81 => 0x33AFEE43#32
  | 82 => 0xB3B01DA5#32
  | 83 => 0x33B05AA9#32
  | 84 => 0xB3B0A563#32
  | 85 => 0x33B0FDEA#32
  | 86 => 0xB3B16459#32
  | 87 => 0x33B1D8CF#32
  | 88 => 0xB3B25B72#32
  | 89 => 0x33B2EC6A#32
  | 90 => 0xB3B38BE5#32
  | 91 => 0x33B43A15#32
  | 92 => 0xB3B4F732#32
  | 93 => 0x33B5C377#32
  | 94 => 0xB3B69F28#32
  | 95 => 0x33B78A8A#32
  | 96 => 0xB3B885EC#32
  | 97 => 0x33B9919E#32
  | 98 => 0xB3BAADFB#32
  | 99 => 0x33BBDB61#32
  | 100 => 0xB3BD1A36#32
  | 101 => 0x33BE6AE7#32
  | 102 => 0xB3BFCDE6#32
  | 103 => 0x33C143B0#32
  | 104 => 0xB3C2CCC7#32
  | 105 => 0x33C469B8#32
  | 106 => 0xB3C61B15#32
  | 107 => 0x33C7E17D#32
  | 108 => 0xB3C9BD97#32
  | 109 => 0x33CBB015#32
  | 110 => 0xB3CDB9B1#32
  | 111 => 0x33CFDB34#32
  | 112 => 0xB3D21572#32
  | 113 => 0x33D4694B#32
  | 114 => 0xB3D6D7AE#32
  | 115 => 0x33D96196#32
  | 116 => 0xB3DC0810#32
  | 117 => 0x33DECC38#32
  | 118 => 0xB3E1AF3D#32
  | 119 => 0x33E4B25D#32
  | 120 => 0xB3E7D6EF#32
  | 121 => 0x33EB1E5A#32
  | 122 => 0xB3EE8A1F#32
  | 123 => 0x33F21BD6#32
  | 124 => 0xB3F5D532#32
  | 125 => 0x33F9B800#32
  | 126 => 0xB3FDC62E#32
  | 127 => 0x340100E3#32
  | _ => 0#32

noncomputable abbrev lit0t0_158 (i : Nat) : BitVec 32 := match i % 128 with
  | 0 => 0x340100E3#32
  | 1 => 0xB403367C#32
  | 2 => 0x3405850C#32
  | 3 => 0xB407EDD1#32
  | 4 => 0x340A721F#32
  | 5 => 0xB40D1360#32
  | 6 => 0x340FD31A#32
  | 7 => 0xB412B2ED#32
  | 8 => 0x3415B495#32
  | 9 => 0xB418D9F0#32
  | 10 => 0x341C2500#32
  | 11 => 0xB41F97EA#32
  | 12 => 0x342334FF#32
  | 13 => 0xB426FEBD#32
  | 14 => 0x342AF7D2#32
  | 15 => 0xB42F2322#32
  | 16 => 0x343383CC#32
  | 17 => 0xB4381D32#32
  | 18 => 0x343CF2FA#32
  | 19 => 0xB4420919#32
  | 20 => 0x344763DA#32
  | 21 => 0xB44D07E6#32
  | 22 => 0x3452FA51#32
  | 23 => 0xB45940A1#32
  | 24 => 0x345FE0DA#32
  | 25 => 0xB466E193#32
  | 26 => 0x346E49FF#32
  | 27 => 0xB4762200#32
  | 28 => 0x347E723F#32
  | 29 => 0xB483A221#32
  | 30 => 0x34885142#32
  | 31 => 0xB48D4C4D#32
  | 32 => 0x349299A5#32
  | 33 => 0xB4984061#32
  | 34 => 0x349E485F#32
  | 35 => 0xB4A4BA5F#32
  | 36 => 0x34ABA023#32
  | 37 => 0xB4B30492#32
  | 38 => 0x34BAF3E5#32
  | 39 => 0xB4C37BD6#32
  | 40 => 0x34CCABDA#32
  | 41 => 0xB4D69568#32
  | 42 => 0x34E14C49#32
  | 43 => 0xB4ECE6F7#32
  | 44 => 0x34F97F13#32
  | 45 => 0xB50398F7#32
  | 46 => 0x350B1097#32
  | 47 => 0xB51339CD#32
  | 48 => 0x351C2B08#32
  | 49 => 0xB525FE56#32
  | 50 => 0x3530D21D#32
  | 51 => 0xB53CCA00#32
  | 52 => 0x354A0FF9#32
  | 53 => 0xB558D5BB#32
  | 54 => 0x35695670#32
  | 55 => 0xB57BD8F1#32
  | 56 => 0x3588594C#32
  | 57 => 0xB5942572#32
  | 58 => 0x35A19018#32
  | 59 => 0xB5B0E6EF#32
  | 60 => 0x35C28A3B#32
  | 61 => 0xB5D6F23A#32
  | 62 => 0x35EEB658#32
  | 63 => 0xB6054B76#32
  | 64 => 0x3615C529#32
  | 65 => 0xB6296767#32
  | 66 => 0x3641014B#32
  | 67 => 0xB65DA20C#32
  | 68 => 0x368056F2#32
  | 69 => 0xB695FBC4#32
  | 70 => 0x36B0ED61#32
  | 71 => 0xB6D29E9B#32
  | 72 => 0x36FFBDB2#32
  | 73 => 0xB692EE32#32
  | 74 => 0x391EBB1A#32
  | 75 => 0x3B12D0DF#32
  | 76 => 0x3CA0086D#32
  | 77 => 0x3DBAD58B#32
  | 78 => 0x3E6BB748#32
  | 79 => 0x3EA069FE#32
  | 80 => 0x3E6BB748#32
  | 81 => 0x3DBAD58B#32
  | 82 => 0x3CA0086D#32
  | 83 => 0x3B12D0DF#32
  | 84 => 0x391EBB1A#32
  | 85 => 0xB692EE32#32
  | 86 => 0x36FFBDB2#32
  | 87 => 0xB6D29E9B#32
  | 88 => 0x36B0ED61#32
  | 89 => 0xB695FBC4#32
  | 90 => 0x368056F2#32
  | 91 => 0xB65DA20C#32
  | 92 => 0x3641014B#32
  | 93 => 0xB6296767#32
  | 94 => 0x3615C529#32
  | 95 => 0xB6054B76#32
  | 96 => 0x35EEB658#32
  | 97 => 0xB5D6F23A#32
  | 98 => 0x35C28A3B#32
  | 99 => 0xB5B0E6EF#32
  | 100 => 0x35A19018#32
  | 101 => 0xB5942572#32
  | 102 => 0x3588594C#32
  | 103 => 0xB57BD8F1#32
  | 104 => 0x35695670#32
  | 105 => 0xB558D5BB#32
  | 106 => 0x354A0FF9#32
  | 107 => 0xB53CCA00#32
  | 108 => 0x3530D21D#32
  | 109 => 0xB525FE56#32
  | 110 => 0x351C2B08#32
  | 111 => 0xB51339CD#32
  | 112 => 0x350B1097#32
  | 113 => 0xB50398F7#32
  | 114 => 0x34F97F13#32
  | 115 => 0xB4ECE6F7#32
  | 116 => 0x34E14C49#32
  | 117 => 0xB4D69568#32
  | 118 => 0x34CCABDA#32
  | 119 => 0xB4C37BD6#32
  | 120 => 0x34BAF3E5#32
  | 121 => 0xB4B30492#32
  | 122 => 0x34ABA023#32
  | 123 => 0xB4A4BA5F#32
  | 124 => 0x349E485F#32
  | 125 => 0xB4984061#32
  | 126 => 0x349299A5#32
  | 127 => 0xB48D4C4D#32
  | _ => 0#32

noncomputable abbrev lit0t0_159 (i : Nat) : BitVec 32 := match i % 128 with
  | 0 => 0x34885143#32
  | 1 => 0xB483A221#32
  | 2 => 0x347E723F#32
  | 3 => 0xB4762200#32
  | 4 => 0x346E49FF#32
  | 5 => 0xB466E193#32
  | 6 => 0x345FE0DA#32
  | 7 => 0xB45940A1#32
  | 8 => 0x3452FA51#32
  | 9 => 0xB44D07E6#32
  | 10 => 0x344763DA#32
  | 11 => 0xB4420919#32
  | 12 => 0x343CF2FA#32
  | 13 => 0xB4381D32#32
  | 14 => 0x343383CC#32
  | 15 => 0xB42F2322#32
  | 16 => 0x342AF7D2#32
  | 17 => 0xB426FEBD#32
  | 18 => 0x342334FF#32
  | 19 => 0xB41F97EA#32
  | 20 => 0x341C2500#32
  | 21 => 0xB418D9F0#32
  | 22 => 0x3415B495#32
  | 23 => 0xB412B2ED#32
  | 24 => 0x340FD31A#32
  | 25 => 0xB40D1360#32
  | 26 => 0x340A721F#32
  | 27 => 0xB407EDD1#32
  | 28 => 0x3405850C#32
  | 29 => 0xB403367C#32
  | 30 => 0x340100E3#32
  | 31 => 0xB3FDC62E#32
  | 32 => 0x33F9B800#32
  | 33 => 0xB3F5D532#32
  | 34 => 0x33F21BD6#32
  | 35 => 0xB3EE8A1F#32
  | 36 => 0x33EB1E5A#32
  | 37 => 0xB3E7D6EF#32
  | 38 => 0x33E4B25D#32
  | 39 => 0xB3E1AF3D#32
  | 40 => 0x33DECC38#32
  | 41 => 0xB3DC0810#32
  | 42 => 0x33D96196#32
  | 43 => 0xB3D6D7AE#32
  | 44 => 0x33D4694B#32
  | 45 => 0xB3D21572#32
  | 46 => 0x33CFDB34#32
  | 47 => 0xB3CDB9B1#32
  | 48 => 0x33CBB015#32
  | 49 => 0xB3C9BD97#32
  | 50 => 0x33C7E17D#32
  | 51 => 0xB3C61B15#32
  | 52 => 0x33C469B8#32
  | 53 => 0xB3C2CCC7#32
  | 54 => 0x33C143B0#32
  | 55 => 0xB3BFCDE6#32
  | 56 => 0x33BE6AE7#32
  | 57 => 0xB3BD1A36#32
  | 58 => 0x33BBDB61#32
  | 59 => 0xB3BAADFB#32
  | 60 => 0x33B9919E#32
  | 61 => 0xB3B885EC#32
  | 62 => 0x33B78A8A#32
  | 63 => 0xB3B69F28#32
  | 64 => 0x33B5C377#32
  | 65 => 0xB3B4F732#32
  | 66 => 0x33B43A15#32
  | 67 => 0xB3B38BE5#32
  | 68 => 0x33B2EC6A#32
  | 69 => 0xB3B25B72#32
  | 70 => 0x33B1D8CF#32
  | 71 => 0xB3B16459#32
  | 72 => 0x33B0FDEA#32
  | 73 => 0xB3B0A563#32
  | 74 => 0x33B05AA9#32
  | 75 => 0xB3B01DA5#32
  | 76 => 0x33AFEE43#32
  | 77 => 0xB3AFCC75#32
  | 78 => 0x33AFB831#32
  | 79 => 0xB3AFB170#32
  | 80 => 0x33AFB831#32
  | 81 => 0xB3AFCC75#32
  | 82 => 0x33AFEE43#32
  | 83 => 0xB3B01DA5#32
  | 84 => 0x33B05AA9#32
  | 85 => 0xB3B0A563#32
  | 86 => 0x33B0FDEA#32
  | 87 => 0xB3B16459#32
  | 88 => 0x33B1D8CF#32
  | 89 => 0xB3B25B72#32
  | 90 => 0x33B2EC6A#32
  | 91 => 0xB3B38BE5#32
  | 92 => 0x33B43A15#32
  | 93 => 0xB3B4F732#32
  | 94 => 0x33B5C377#32
  | 95 => 0xB3B69F28#32
  | 96 => 0x33B78A8A#32
  | 97 => 0xB3B885EC#32
  | 98 => 0x33B9919E#32
  | 99 => 0xB3BAADFB#32
  | 100 => 0x33BBDB61#32
  | 101 => 0xB3BD1A36#32
  | 102 => 0x33BE6AE7#32
  | 103 => 0xB3BFCDE6#32
  | 104 => 0x33C143B0#32
  | 105 => 0xB3C2CCC7#32
  | 106 => 0x33C469B8#32
  | 107 => 0xB3C61B15#32
  | 108 => 0x33C7E17D#32
  | 109 => 0xB3C9BD97#32
  | 110 => 0x33CBB015#32
  | 111 => 0xB3CDB9B1#32
  | 112 => 0x33CFDB34#32
  | 113 => 0xB3D21572#32
  | 114 => 0x33D4694B#32
  | 115 => 0xB3D6D7AE#32
  | 116 => 0x33D96196#32
  | 117 => 0xB3DC0810#32
  | 118 => 0x33DECC38#32
  | 119 => 0xB3E1AF3D#32
  | 120 => 0x33E4B25D#32
  | 121 => 0xB3E7D6EF#32
  | 122 => 0x33EB1E5A#32
  | 123 => 0xB3EE8A1F#32
  | 124 => 0x33F21BD6#32
  | 125 => 0xB3F5D532#32
  | 126 => 0x33F9B800#32
  | 127 => 0xB3FDC62E#32
  | _ => 0#32

noncomputable abbrev lit0t0_160 (i : Nat) : BitVec 32 := match i % 128 with
  | 0 => 0xB3FDC62E#32
  | 1 => 0x340100E3#32
  | 2 => 0xB403367C#32
  | 3 => 0x3405850C#32
  | 4 => 0xB407EDD1#32
  | 5 => 0x340A721F#32
  | 6 => 0xB40D1360#32
  | 7 => 0x340FD31A#32
  | 8 => 0xB412B2ED#32
  | 9 => 0x3415B495#32
  | 10 => 0xB418D9F0#32
  | 11 => 0x341C2500#32
  | 12 => 0xB41F97EA#32
  | 13 => 0x342334FF#32
  | 14 => 0xB426FEBD#32
  | 15 => 0x342AF7D2#32
  | 16 => 0xB42F2322#32
  | 17 => 0x343383CC#32
  | 18 => 0xB4381D32#32
  | 19 => 0x343CF2FA#32
  | 20 => 0xB4420919#32
  | 21 => 0x344763DA#32
  | 22 => 0xB44D07E6#32
  | 23 => 0x3452FA51#32
  | 24 => 0xB45940A1#32
  | 25 => 0x345FE0DA#32
  | 26 => 0xB466E193#32
  | 27 => 0x346E49FF#32
  | 28 => 0xB4762200#32
  | 29 => 0x347E723F#32
  | 30 => 0xB483A221#32
  | 31 => 0x34885143#32
  | 32 => 0xB48D4C4D#32
  | 33 => 0x349299A5#32
  | 34 => 0xB4984061#32
  | 35 => 0x349E485F#32
  | 36 => 0xB4A4BA5F#32
  | 37 => 0x34ABA023#32
  | 38 => 0xB4B30492#32
  | 39 => 0x34BAF3E5#32
  | 40 => 0xB4C37BD6#32
  | 41 => 0x34CCABDA#32
  | 42 => 0xB4D69568#32
  | 43 => 0x34E14C49#32
  | 44 => 0xB4ECE6F7#32
  | 45 => 0x34F97F13#32
  | 46 => 0xB50398F7#32
  | 47 => 0x350B1097#32
  | 48 => 0xB51339CD#32
  | 49 => 0x351C2B08#32
  | 50 => 0xB525FE56#32
  | 51 => 0x3530D21D#32
  | 52 => 0xB53CCA00#32
  | 53 => 0x354A0FF9#32
  | 54 => 0xB558D5BB#32
  | 55 => 0x35695670#32
  | 56 => 0xB57BD8F1#32
  | 57 => 0x3588594C#32
  | 58 => 0xB5942572#32
  | 59 => 0x35A19018#32
  | 60 => 0xB5B0E6EF#32
  | 61 => 0x35C28A3B#32
  | 62 => 0xB5D6F23A#32
  | 63 => 0x35EEB658#32
  | 64 => 0xB6054B76#32
  | 65 => 0x3615C529#32
  | 66 => 0xB6296767#32
  | 67 => 0x3641014B#32
  | 68 => 0xB65DA20C#32
  | 69 => 0x368056F2#32
  | 70 => 0xB695FBC4#32
  | 71 => 0x36B0ED61#32
  | 72 => 0xB6D29E9B#32
  | 73 => 0x36FFBDB2#32
  | 74 => 0xB692EE32#32
  | 75 => 0x391EBB1A#32
  | 76 => 0x3B12D0DF#32
  | 77 => 0x3CA0086D#32
  | 78 => 0x3DBAD58B#32
  | 79 => 0x3E6BB748#32
  | 80 => 0x3EA069FE#32
  | 81 => 0x3E6BB748#32
  | 82 => 0x3DBAD58B#32
  | 83 => 0x3CA0086D#32
  | 84 => 0x3B12D0DF#32
  | 85 => 0x391EBB1A#32
  | 86 => 0xB692EE32#32
  | 87 => 0x36FFBDB2#32
  | 88 => 0xB6D29E9B#32
  | 89 => 0x36B0ED61#32
  | 90 => 0xB695FBC4#32
  | 91 => 0x368056F2#32
  | 92 => 0xB65DA20C#32
  | 93 => 0x3641014B#32
  | 94 => 0xB6296767#32
  | 95 => 0x3615C529#32
  | 96 => 0xB6054B76#32
  | 97 => 0x35EEB658#32
  | 98 => 0xB5D6F23A#32
  | 99 => 0x35C28A3B#32
  | 100 => 0xB5B0E6EF#32
  | 101 => 0x35A19018#32
  | 102 => 0xB5942572#32
  | 103 => 0x3588594C#32
  | 104 => 0xB57BD8F1#32
  | 105 => 0x35695670#32
  | 106 => 0xB558D5BB#32
  | 107 => 0x354A0FF9#32
  | 108 => 0xB53CCA00#32
  | 109 => 0x3530D21D#32
  | 110 => 0xB525FE56#32
  | 111 => 0x351C2B08#32
  | 112 => 0xB51339CD#32
  | 113 => 0x350B1097#32
  | 114 => 0xB50398F7#32
  | 115 => 0x34F97F13#32
  | 116 => 0xB4ECE6F7#32
  | 117 => 0x34E14C49#32
  | 118 => 0xB4D69568#32
  | 119 => 0x34CCABDA#32
  | 120 => 0xB4C37BD6#32
  | 121 => 0x34BAF3E5#32
  | 122 => 0xB4B30492#32
  | 123 => 0x34ABA023#32
  | 124 => 0xB4A4BA5F#32
  | 125 => 0x349E485F#32
  | 126 => 0xB4984061#32
  | 127 => 0x349299A5#32
  | _ => 0#32

noncomputable abbrev lit0t0_161 (i : Nat) : BitVec 32 := match i % 128 with
  | 0 => 0xB48D4C4D#32
  | 1 => 0x34885143#32
  | 2 => 0xB483A221#32
  | 3 => 0x347E723F#32
  | 4 => 0xB4762200#32
  | 5 => 0x346E49FF#32
  | 6 => 0xB466E193#32
  | 7 => 0x345FE0DA#32
  | 8 => 0xB45940A1#32
  | 9 => 0x3452FA51#32
  | 10 => 0xB44D07E6#32
  | 11 => 0x344763DA#32
  | 12 => 0xB4420919#32
  | 13 => 0x343CF2FA#32
  | 14 => 0xB4381D32#32
  | 15 => 0x343383CC#32
  | 16 => 0xB42F2322#32
  | 17 => 0x342AF7D2#32
  | 18 => 0xB426FEBD#32
  | 19 => 0x342334FF#32
  | 20 => 0xB41F97EA#32
  | 21 => 0x341C2500#32
  | 22 => 0xB418D9F0#32
  | 23 => 0x3415B495#32
  | 24 => 0xB412B2ED#32
  | 25 => 0x340FD31A#32
  | 26 => 0xB40D1360#32
  | 27 => 0x340A721F#32
  | 28 => 0xB407EDD1#32
  | 29 => 0x3405850C#32
  | 30 => 0xB403367C#32
  | 31 => 0x340100E3#32
  | 32 => 0xB3FDC62E#32
  | 33 => 0x33F9B800#32
  | 34 => 0xB3F5D532#32
  | 35 => 0x33F21BD6#32
  | 36 => 0xB3EE8A1F#32
  | 37 => 0x33EB1E5A#32
  | 38 => 0xB3E7D6EF#32
  | 39 => 0x33E4B25D#32
  | 40 => 0xB3E1AF3D#32
  | 41 => 0x33DECC38#32
  | 42 => 0xB3DC0810#32
  | 43 => 0x33D96196#32
  | 44 => 0xB3D6D7AE#32
  | 45 => 0x33D4694B#32
  | 46 => 0xB3D21572#32
  | 47 => 0x33CFDB34#32
  | 48 => 0xB3CDB9B1#32
  | 49 => 0x33CBB015#32
  | 50 => 0xB3C9BD97#32
  | 51 => 0x33C7E17D#32
  | 52 => 0xB3C61B15#32
  | 53 => 0x33C469B8#32
  | 54 => 0xB3C2CCC7#32
  | 55 => 0x33C143B0#32
  | 56 => 0xB3BFCDE6#32
  | 57 => 0x33BE6AE7#32
  | 58 => 0xB3BD1A36#32
  | 59 => 0x33BBDB61#32
  | 60 => 0xB3BAADFB#32
  | 61 => 0x33B9919E#32
  | 62 => 0xB3B885EC#32
  | 63 => 0x33B78A8A#32
  | 64 => 0xB3B69F28#32
  | 65 => 0x33B5C377#32
  | 66 => 0xB3B4F732#32
  | 67 => 0x33B43A15#32
  | 68 => 0xB3B38BE5#32
  | 69 => 0x33B2EC6A#32
  | 70 => 0xB3B25B72#32
  | 71 => 0x33B1D8CF#32
  | 72 => 0xB3B16459#32
  | 73 => 0x33B0FDEA#32
  | 74 => 0xB3B0A563#32
  | 75 => 0x33B05AA9#32
  | 76 => 0xB3B01DA5#32
  | 77 => 0x33AFEE43#32
  | 78 => 0xB3AFCC75#32
  | 79 => 0x33AFB831#32
  | 80 => 0xB3AFB170#32
  | 81 => 0x33AFB831#32
  | 82 => 0xB3AFCC75#32
  | 83 => 0x33AFEE43#32
  | 84 => 0xB3B01DA5#32
  | 85 => 0x33B05AA9#32
  | 86 => 0xB3B0A563#32
  | 87 => 0x33B0FDEA#32
  | 88 => 0xB3B16459#32
  | 89 => 0x33B1D8CF#32
  | 90 => 0xB3B25B72#32
  | 91 => 0x33B2EC6A#32
  | 92 => 0xB3B38BE5#32
  | 93 => 0x33B43A15#32
  | 94 => 0xB3B4F732#32
  | 95 => 0x33B5C377#32
  | 96 => 0xB3B69F28#32
  | 97 => 0x33B78A8A#32
  | 98 => 0xB3B885EC#32
  | 99 => 0x33B9919E#32
  | 100 => 0xB3BAADFB#32
  | 101 => 0x33BBDB61#32
  | 102 => 0xB3BD1A36#32
  | 103 => 0x33BE6AE7#32
  | 104 => 0xB3BFCDE6#32
  | 105 => 0x33C143B0#32
  | 106 => 0xB3C2CCC7#32
  | 107 => 0x33C469B8#32
  | 108 => 0xB3C61B15#32
  | 109 => 0x33C7E17D#32
  | 110 => 0xB3C9BD97#32
  | 111 => 0x33CBB015#32
  | 112 => 0xB3CDB9B1#32
  | 113 => 0x33CFDB34#32
  | 114 => 0xB3D21572#32
  | 115 => 0x33D4694B#32
  | 116 => 0xB3D6D7AE#32
  | 117 => 0x33D96196#32
  | 118 => 0xB3DC0810#32
  | 119 => 0x33DECC38#32
  | 120 => 0xB3E1AF3D#32
  | 121 => 0x33E4B25D#32
  | 122 => 0xB3E7D6EF#32
  | 123 => 0x33EB1E5A#32
  | 124 => 0xB3EE8A1F#32
  | 125 => 0x33F21BD6#32
  | 126 => 0xB3F5D532#32
  | 127 => 0x33F9B800#32
  | _ => 0#32

noncomputable abbrev lit0t0_162 (i : Nat) : BitVec 32 := match i % 128 with
  | 0 => 0x33F9B800#32
  | 1 => 0xB3FDC62E#32
  | 2 => 0x340100E3#32
  | 3 => 0xB403367C#32
  | 4 => 0x3405850C#32
  | 5 => 0xB407EDD1#32
  | 6 => 0x340A721F#32
  | 7 => 0xB40D1360#32
  | 8 => 0x340FD31A#32
  | 9 => 0xB412B2ED#32
  | 10 => 0x3415B495#32
  | 11 => 0xB418D9F0#32
  | 12 => 0x341C2500#32
  | 13 => 0xB41F97EA#32
  | 14 => 0x342334FF#32
  | 15 => 0xB426FEBD#32
  | 16 => 0x342AF7D2#32
  | 17 => 0xB42F2322#32
  | 18 => 0x343383CC#32
  | 19 => 0xB4381D32#32
  | 20 => 0x343CF2FA#32
  | 21 => 0xB4420919#32
  | 22 => 0x344763DA#32
  | 23 => 0xB44D07E6#32
  | 24 => 0x3452FA51#32
  | 25 => 0xB45940A1#32
  | 26 => 0x345FE0DA#32
  | 27 => 0xB466E193#32
  | 28 => 0x346E49FF#32
  | 29 => 0xB4762200#32
  | 30 => 0x347E723F#32
  | 31 => 0xB483A221#32
  | 32 => 0x34885143#32
  | 33 => 0xB48D4C4D#32
  | 34 => 0x349299A5#32
  | 35 => 0xB4984061#32
  | 36 => 0x349E485F#32
  | 37 => 0xB4A4BA5F#32
  | 38 => 0x34ABA023#32
  | 39 => 0xB4B30492#32
  | 40 => 0x34BAF3E5#32
  | 41 => 0xB4C37BD6#32
  | 42 => 0x34CCABDA#32
  | 43 => 0xB4D69568#32
  | 44 => 0x34E14C49#32
  | 45 => 0xB4ECE6F7#32
  | 46 => 0x34F97F13#32
  | 47 => 0xB50398F7#32
  | 48 => 0x350B1097#32
  | 49 => 0xB51339CD#32
  | 50 => 0x351C2B08#32
  | 51 => 0xB525FE56#32
  | 52 => 0x3530D21D#32
  | 53 => 0xB53CCA00#32
  | 54 => 0x354A0FF9#32
  | 55 => 0xB558D5BB#32
  | 56 => 0x35695670#32
  | 57 => 0xB57BD8F1#32
  | 58 => 0x3588594C#32
  | 59 => 0xB5942572#32
  | 60 => 0x35A19018#32
  | 61 => 0xB5B0E6EF#32
  | 62 => 0x35C28A3B#32
  | 63 => 0xB5D6F23A#32
  | 64 => 0x35EEB658#32
  | 65 => 0xB6054B76#32
  | 66 => 0x3615C529#32
  | 67 => 0xB6296767#32
  | 68 => 0x3641014B#32
  | 69 => 0xB65DA20C#32
  | 70 => 0x368056F2#32
  | 71 => 0xB695FBC4#32
  | 72 => 0x36B0ED61#32
  | 73 => 0xB6D29E9B#32
  | 74 => 0x36FFBDB2#32
  | 75 => 0xB692EE32#32
  | 76 => 0x391EBB1A#32
  | 77 => 0x3B12D0DF#32
  | 78 => 0x3CA0086D#32
  | 79 => 0x3DBAD58B#32
  | 80 => 0x3E6BB748#32
  | 81 => 0x3EA069FE#32
  | 82 => 0x3E6BB748#32
  | 83 => 0x3DBAD58B#32
  | 84 => 0x3CA0086D#32
  | 85 => 0x3B12D0DF#32
  | 86 => 0x391EBB1A#32
  | 87 => 0xB692EE32#32
  | 88 => 0x36FFBDB2#32
  | 89 => 0xB6D29E9B#32
  | 90 => 0x36B0ED61#32
  | 91 => 0xB695FBC4#32
  | 92 => 0x368056F2#32
  | 93 => 0xB65DA20C#32
  | 94 => 0x3641014B#32
  | 95 => 0xB6296767#32
  | 96 => 0x3615C529#32
  | 97 => 0xB6054B76#32
  | 98 => 0x35EEB658#32
  | 99 => 0xB5D6F23A#32
  | 100 => 0x35C28A3B#32
  | 101 => 0xB5B0E6EF#32
  | 102 => 0x35A19018#32
  | 103 => 0xB5942572#32
  | 104 => 0x3588594C#32
  | 105 => 0xB57BD8F1#32
  | 106 => 0x35695670#32
  | 107 => 0xB558D5BB#32
  | 108 => 0x354A0FF9#32
  | 109 => 0xB53CCA00#32
  | 110 => 0x3530D21D#32
  | 111 => 0xB525FE56#32
  | 112 => 0x351C2B08#32
  | 113 => 0xB51339CD#32
  | 114 => 0x350B1097#32
  | 115 => 0xB50398F7#32
  | 116 => 0x34F97F13#32
  | 117 => 0xB4ECE6F7#32
  | 118 => 0x34E14C49#32
  | 119 => 0xB4D69568#32
  | 120 => 0x34CCABDA#32
  | 121 => 0xB4C37BD6#32
  | 122 => 0x34BAF3E5#32
  | 123 => 0xB4B30492#32
  | 124 => 0x34ABA023#32
  | 125 => 0xB4A4BA5F#32
  | 126 => 0x349E485F#32
  | 127 => 0xB4984061#32
  | _ => 0#32

noncomputable abbrev lit0t0_163 (i : Nat) : BitVec 32 := match i % 128 with
  | 0 => 0x349299A5#32
  | 1 => 0xB48D4C4D#32
  | 2 => 0x34885143#32
  | 3 => 0xB483A221#32
  | 4 => 0x347E723F#32
  | 5 => 0xB4762200#32
  | 6 => 0x346E49FF#32
  | 7 => 0xB466E193#32
  | 8 => 0x345FE0DA#32
  | 9 => 0xB45940A1#32
  | 10 => 0x3452FA51#32
  | 11 => 0xB44D07E6#32
  | 12 => 0x344763DA#32
  | 13 => 0xB4420919#32
  | 14 => 0x343CF2FA#32
  | 15 => 0xB4381D32#32
  | 16 => 0x343383CC#32
  | 17 => 0xB42F2322#32
  | 18 => 0x342AF7D2#32
  | 19 => 0xB426FEBD#32
  | 20 => 0x342334FF#32
  | 21 => 0xB41F97EA#32
  | 22 => 0x341C2500#32
  | 23 => 0xB418D9F0#32
  | 24 => 0x3415B495#32
  | 25 => 0xB412B2ED#32
  | 26 => 0x340FD31A#32
  | 27 => 0xB40D1360#32
  | 28 => 0x340A721F#32
  | 29 => 0xB407EDD1#32
  | 30 => 0x3405850C#32
  | 31 => 0xB403367C#32
  | 32 => 0x340100E3#32
  | 33 => 0xB3FDC62E#32
  | 34 => 0x33F9B800#32
  | 35 => 0xB3F5D532#32
  | 36 => 0x33F21BD6#32
  | 37 => 0xB3EE8A1F#32
  | 38 => 0x33EB1E5A#32
  | 39 => 0xB3E7D6EF#32
  | 40 => 0x33E4B25D#32
  | 41 => 0xB3E1AF3D#32
  | 42 => 0x33DECC38#32
  | 43 => 0xB3DC0810#32
  | 44 => 0x33D96196#32
  | 45 => 0xB3D6D7AE#32
  | 46 => 0x33D4694B#32
  | 47 => 0xB3D21572#32
  | 48 => 0x33CFDB34#32
  | 49 => 0xB3CDB9B1#32
  | 50 => 0x33CBB015#32
  | 51 => 0xB3C9BD97#32
  | 52 => 0x33C7E17D#32
  | 53 => 0xB3C61B15#32
  | 54 => 0x33C469B8#32
  | 55 => 0xB3C2CCC7#32
  | 56 => 0x33C143B0#32
  | 57 => 0xB3BFCDE6#32
  | 58 => 0x33BE6AE7#32
  | 59 => 0xB3BD1A36#32
  | 60 => 0x33BBDB61#32
  | 61 => 0xB3BAADFB#32
  | 62 => 0x33B9919E#32
  | 63 => 0xB3B885EC#32
  | 64 => 0x33B78A8A#32
  | 65 => 0xB3B69F28#32
  | 66 => 0x33B5C377#32
  | 67 => 0xB3B4F732#32
  | 68 => 0x33B43A15#32
  | 69 => 0xB3B38BE5#32
  | 70 => 0x33B2EC6A#32
  | 71 => 0xB3B25B72#32
  | 72 => 0x33B1D8CF#32
  | 73 => 0xB3B16459#32
  | 74 => 0x33B0FDEA#32
  | 75 => 0xB3B0A563#32
  | 76 => 0x33B05AA9#32
  | 77 => 0xB3B01DA5#32
  | 78 => 0x33AFEE43#32
  | 79 => 0xB3AFCC75#32
  | 80 => 0x33AFB831#32
  | 81 => 0xB3AFB170#32
  | 82 => 0x33AFB831#32
  | 83 => 0xB3AFCC75#32
  | 84 => 0x33AFEE43#32
  | 85 => 0xB3B01DA5#32
  | 86 => 0x33B05AA9#32
  | 87 => 0xB3B0A563#32
  | 88 => 0x33B0FDEA#32
  | 89 => 0xB3B16459#32
  | 90 => 0x33B1D8CF#32
  | 91 => 0xB3B25B72#32
  | 92 => 0x33B2EC6A#32
  | 93 => 0xB3B38BE5#32
  | 94 => 0x33B43A15#32
  | 95 => 0xB3B4F732#32
  | 96 => 0x33B5C377#32
  | 97 => 0xB3B69F28#32
  | 98 => 0x33B78A8A#32
  | 99 => 0xB3B885EC#32
  | 100 => 0x33B9919E#32
  | 101 => 0xB3BAADFB#32
  | 102 => 0x33BBDB61#32
  | 103 => 0xB3BD1A36#32
  | 104 => 0x33BE6AE7#32
  | 105 => 0xB3BFCDE6#32
  | 106 => 0x33C143B0#32
  | 107 => 0xB3C2CCC7#32
  | 108 => 0x33C469B8#32
  | 109 => 0xB3C61B15#32
  | 110 => 0x33C7E17D#32
  | 111 => 0xB3C9BD97#32
  | 112 => 0x33CBB015#32
  | 113 => 0xB3CDB9B1#32
  | 114 => 0x33CFDB34#32
  | 115 => 0xB3D21572#32
  | 116 => 0x33D4694B#32
  | 117 => 0xB3D6D7AE#32
  | 118 => 0x33D96196#32
  | 119 => 0xB3DC0810#32
  | 120 => 0x33DECC38#32
  | 121 => 0xB3E1AF3D#32
  | 122 => 0x33E4B25D#32
  | 123 => 0xB3E7D6EF#32
  | 124 => 0x33EB1E5A#32
  | 125 => 0xB3EE8A1F#32
  | 126 => 0x33F21BD6#32
  | 127 => 0xB3F5D532#32
  | _ => 0#32

noncomputable abbrev lit0t0_164 (i : Nat) : BitVec 32 := match i % 128 with
  | 0 => 0xB3F5D532#32
  | 1 => 0x33F9B800#32
  | 2 => 0xB3FDC62E#32
  | 3 => 0x340100E3#32
  | 4 => 0xB403367C#32
  | 5 => 0x3405850C#32
  | 6 => 0xB407EDD1#32
  | 7 => 0x340A721F#32
  | 8 => 0xB40D1360#32
  | 9 => 0x340FD31A#32
  | 10 => 0xB412B2ED#32
  | 11 => 0x3415B495#32
  | 12 => 0xB418D9F0#32
  | 13 => 0x341C2500#32
  | 14 => 0xB41F97EA#32
  | 15 => 0x342334FF#32
  | 16 => 0xB426FEBD#32
  | 17 => 0x342AF7D2#32
  | 18 => 0xB42F2322#32
  | 19 => 0x343383CC#32
  | 20 => 0xB4381D32#32
  | 21 => 0x343CF2FA#32
  | 22 => 0xB4420919#32
  | 23 => 0x344763DA#32
  | 24 => 0xB44D07E6#32
  | 25 => 0x3452FA51#32
  | 26 => 0xB45940A1#32
  | 27 => 0x345FE0DA#32
  | 28 => 0xB466E193#32
  | 29 => 0x346E49FF#32
  | 30 => 0xB4762200#32
  | 31 => 0x347E723F#32
  | 32 => 0xB483A221#32
  | 33 => 0x34885143#32
  | 34 => 0xB48D4C4D#32
  | 35 => 0x349299A5#32
  | 36 => 0xB4984061#32
  | 37 => 0x349E485F#32
  | 38 => 0xB4A4BA5F#32
  | 39 => 0x34ABA023#32
  | 40 => 0xB4B30492#32
  | 41 => 0x34BAF3E5#32
  | 42 => 0xB4C37BD6#32
  | 43 => 0x34CCABDA#32
  | 44 => 0xB4D69568#32
  | 45 => 0x34E14C49#32
  | 46 => 0xB4ECE6F7#32
  | 47 => 0x34F97F13#32
  | 48 => 0xB50398F7#32
  | 49 => 0x350B1097#32
  | 50 => 0xB51339CD#32
  | 51 => 0x351C2B08#32
  | 52 => 0xB525FE56#32
  | 53 => 0x3530D21D#32
  | 54 => 0xB53CCA00#32
  | 55 => 0x354A0FF9#32
  | 56 => 0xB558D5BB#32
  | 57 => 0x35695670#32
  | 58 => 0xB57BD8F1#32
  | 59 => 0x3588594C#32
  | 60 => 0xB5942572#32
  | 61 => 0x35A19018#32
  | 62 => 0xB5B0E6EF#32
  | 63 => 0x35C28A3B#32
  | 64 => 0xB5D6F23A#32
  | 65 => 0x35EEB658#32
  | 66 => 0xB6054B76#32
  | 67 => 0x3615C529#32
  | 68 => 0xB6296767#32
  | 69 => 0x3641014B#32
  | 70 => 0xB65DA20C#32
  | 71 => 0x368056F2#32
  | 72 => 0xB695FBC4#32
  | 73 => 0x36B0ED61#32
  | 74 => 0xB6D29E9B#32
  | 75 => 0x36FFBDB2#32
  | 76 => 0xB692EE32#32
  | 77 => 0x391EBB1A#32
  | 78 => 0x3B12D0DF#32
  | 79 => 0x3CA0086D#32
  | 80 => 0x3DBAD58B#32
  | 81 => 0x3E6BB748#32
  | 82 => 0x3EA069FE#32
  | 83 => 0x3E6BB748#32
  | 84 => 0x3DBAD58B#32
  | 85 => 0x3CA0086D#32
  | 86 => 0x3B12D0DF#32
  | 87 => 0x391EBB1A#32
  | 88 => 0xB692EE32#32
  | 89 => 0x36FFBDB2#32
  | 90 => 0xB6D29E9B#32
  | 91 => 0x36B0ED61#32
  | 92 => 0xB695FBC4#32
  | 93 => 0x368056F2#32
  | 94 => 0xB65DA20C#32
  | 95 => 0x3641014B#32
  | 96 => 0xB6296767#32
  | 97 => 0x3615C529#32
  | 98 => 0xB6054B76#32
  | 99 => 0x35EEB658#32
  | 100 => 0xB5D6F23A#32
  | 101 => 0x35C28A3B#32
  | 102 => 0xB5B0E6EF#32
  | 103 => 0x35A19018#32
  | 104 => 0xB5942572#32
  | 105 => 0x3588594C#32
  | 106 => 0xB57BD8F1#32
  | 107 => 0x35695670#32
  | 108 => 0xB558D5BB#32
  | 109 => 0x354A0FF9#32
  | 110 => 0xB53CCA00#32
  | 111 => 0x3530D21D#32
  | 112 => 0xB525FE56#32
  | 113 => 0x351C2B08#32
  | 114 => 0xB51339CD#32
  | 115 => 0x350B1097#32
  | 116 => 0xB50398F7#32
  | 117 => 0x34F97F13#32
  | 118 => 0xB4ECE6F7#32
  | 119 => 0x34E14C49#32
  | 120 => 0xB4D69568#32
  | 121 => 0x34CCABDA#32
  | 122 => 0xB4C37BD6#32
  | 123 => 0x34BAF3E5#32
  | 124 => 0xB4B30492#32
  | 125 => 0x34ABA023#32
  | 126 => 0xB4A4BA5F#32
  | 127 => 0x349E485F#32
  | _ => 0#32

noncomputable abbrev lit0t0_165 (i : Nat) : BitVec 32 := match i % 128 with
  | 0 => 0xB4984061#32
  | 1 => 0x349299A5#32
  | 2 => 0xB48D4C4D#32
  | 3 => 0x34885143#32
  | 4 => 0xB483A221#32
  | 5 => 0x347E723F#32
  | 6 => 0xB4762200#32
  | 7 => 0x346E49FF#32
  | 8 => 0xB466E193#32
  | 9 => 0x345FE0DA#32
  | 10 => 0xB45940A1#32
  | 11 => 0x3452FA51#32
  | 12 => 0xB44D07E6#32
  | 13 => 0x344763DA#32
  | 14 => 0xB4420919#32
  | 15 => 0x343CF2FA#32
  | 16 => 0xB4381D32#32
  | 17 => 0x343383CC#32
  | 18 => 0xB42F2322#32
  | 19 => 0x342AF7D2#32
  | 20 => 0xB426FEBD#32
  | 21 => 0x342334FF#32
  | 22 => 0xB41F97EA#32
  | 23 => 0x341C2500#32
  | 24 => 0xB418D9F0#32
  | 25 => 0x3415B495#32
  | 26 => 0xB412B2ED#32
  | 27 => 0x340FD31A#32
  | 28 => 0xB40D1360#32
  | 29 => 0x340A721F#32
  | 30 => 0xB407EDD1#32
  | 31 => 0x3405850C#32
  | 32 => 0xB403367C#32
  | 33 => 0x340100E3#32
  | 34 => 0xB3FDC62E#32
  | 35 => 0x33F9B800#32
  | 36 => 0xB3F5D532#32
  | 37 => 0x33F21BD6#32
  | 38 => 0xB3EE8A1F#32
  | 39 => 0x33EB1E5A#32
  | 40 => 0xB3E7D6EF#32
  | 41 => 0x33E4B25D#32
  | 42 => 0xB3E1AF3D#32
  | 43 => 0x33DECC38#32
  | 44 => 0xB3DC0810#32
  | 45 => 0x33D96196#32
  | 46 => 0xB3D6D7AE#32
  | 47 => 0x33D4694B#32
  | 48 => 0xB3D21572#32
  | 49 => 0x33CFDB34#32
  | 50 => 0xB3CDB9B1#32
  | 51 => 0x33CBB015#32
  | 52 => 0xB3C9BD97#32
  | 53 => 0x33C7E17D#32
  | 54 => 0xB3C61B15#32
  | 55 => 0x33C469B8#32
  | 56 => 0xB3C2CCC7#32
  | 57 => 0x33C143B0#32
  | 58 => 0xB3BFCDE6#32
  | 59 => 0x33BE6AE7#32
  | 60 => 0xB3BD1A36#32
  | 61 => 0x33BBDB61#32
  | 62 => 0xB3BAADFB#32
  | 63 => 0x33B9919E#32
  | 64 => 0xB3B885EC#32
  | 65 => 0x33B78A8A#32
  | 66 => 0xB3B69F28#32
  | 67 => 0x33B5C377#32
  | 68 => 0xB3B4F732#32
  | 69 => 0x33B43A15#32
  | 70 => 0xB3B38BE5#32
  | 71 => 0x33B2EC6A#32
  | 72 => 0xB3B25B72#32
  | 73 => 0x33B1D8CF#32
  | 74 => 0xB3B16459#32
  | 75 => 0x33B0FDEA#32
  | 76 => 0xB3B0A563#32
  | 77 => 0x33B05AA9#32
  | 78 => 0xB3B01DA5#32
  | 79 => 0x33AFEE43#32
  | 80 => 0xB3AFCC75#32
  | 81 => 0x33AFB831#32
  | 82 => 0xB3AFB170#32
  | 83 => 0x33AFB831#32
  | 84 => 0xB3AFCC75#32
  | 85 => 0x33AFEE43#32
  | 86 => 0xB3B01DA5#32
  | 87 => 0x33B05AA9#32
  | 88 => 0xB3B0A563#32
  | 89 => 0x33B0FDEA#32
  | 90 => 0xB3B16459#32
  | 91 => 0x33B1D8CF#32
  | 92 => 0xB3B25B72#32
  | 93 => 0x33B2EC6A#32
  | 94 => 0xB3B38BE5#32
  | 95 => 0x33B43A15#32
  | 96 => 0xB3B4F732#32
  | 97 => 0x33B5C377#32
  | 98 => 0xB3B69F28#32
  | 99 => 0x33B78A8A#32
  | 100 => 0xB3B885EC#32
  | 101 => 0x33B9919E#32
  | 102 => 0xB3BAADFB#32
  | 103 => 0x33BBDB61#32
  | 104 => 0xB3BD1A36#32
  | 105 => 0x33BE6AE7#32
  | 106 => 0xB3BFCDE6#32
  | 107 => 0x33C143B0#32
  | 108 => 0xB3C2CCC7#32
  | 109 => 0x33C469B8#32
  | 110 => 0xB3C61B15#32
  | 111 => 0x33C7E17D#32
  | 112 => 0xB3C9BD97#32
  | 113 => 0x33CBB015#32
  | 114 => 0xB3CDB9B1#32
  | 115 => 0x33CFDB34#32
  | 116 => 0xB3D21572#32
  | 117 => 0x33D4694B#32
  | 118 => 0xB3D6D7AE#32
  | 119 => 0x33D96196#32
  | 120 => 0xB3DC0810#32
  | 121 => 0x33DECC38#32
  | 122 => 0xB3E1AF3D#32
  | 123 => 0x33E4B25D#32
  | 124 => 0xB3E7D6EF#32
  | 125 => 0x33EB1E5A#32
  | 126 => 0xB3EE8A1F#32
  | 127 => 0x33F21BD6#32
  | _ => 0#32

noncomputable abbrev lit0t0_166 (i : Nat) : BitVec 32 := match i % 128 with
  | 0 => 0x33F21BD6#32
  | 1 => 0xB3F5D532#32
  | 2 => 0x33F9B800#32
  | 3 => 0xB3FDC62E#32
  | 4 => 0x340100E3#32
  | 5 => 0xB403367C#32
  | 6 => 0x3405850C#32
  | 7 => 0xB407EDD1#32
  | 8 => 0x340A721F#32
  | 9 => 0xB40D1360#32
  | 10 => 0x340FD31A#32
  | 11 => 0xB412B2ED#32
  | 12 => 0x3415B495#32
  | 13 => 0xB418D9F0#32
  | 14 => 0x341C2500#32
  | 15 => 0xB41F97EA#32
  | 16 => 0x342334FF#32
  | 17 => 0xB426FEBD#32
  | 18 => 0x342AF7D2#32
  | 19 => 0xB42F2322#32
  | 20 => 0x343383CC#32
  | 21 => 0xB4381D32#32
  | 22 => 0x343CF2FA#32
  | 23 => 0xB4420919#32
  | 24 => 0x344763DA#32
  | 25 => 0xB44D07E6#32
  | 26 => 0x3452FA51#32
  | 27 => 0xB45940A1#32
  | 28 => 0x345FE0DA#32
  | 29 => 0xB466E193#32
  | 30 => 0x346E49FF#32
  | 31 => 0xB4762200#32
  | 32 => 0x347E723F#32
  | 33 => 0xB483A221#32
  | 34 => 0x34885143#32
  | 35 => 0xB48D4C4D#32
  | 36 => 0x349299A5#32
  | 37 => 0xB4984061#32
  | 38 => 0x349E485F#32
  | 39 => 0xB4A4BA5F#32
  | 40 => 0x34ABA023#32
  | 41 => 0xB4B30492#32
  | 42 => 0x34BAF3E5#32
  | 43 => 0xB4C37BD6#32
  | 44 => 0x34CCABDA#32
  | 45 => 0xB4D69568#32
  | 46 => 0x34E14C49#32
  | 47 => 0xB4ECE6F7#32
  | 48 => 0x34F97F13#32
  | 49 => 0xB50398F7#32
  | 50 => 0x350B1097#32
  | 51 => 0xB51339CD#32
  | 52 => 0x351C2B08#32
  | 53 => 0xB525FE56#32
  | 54 => 0x3530D21D#32
  | 55 => 0xB53CCA00#32
  | 56 => 0x354A0FF9#32
  | 57 => 0xB558D5BB#32
  | 58 => 0x35695670#32
  | 59 => 0xB57BD8F1#32
  | 60 => 0x3588594C#32
  | 61 => 0xB5942572#32
  | 62 => 0x35A19018#32
  | 63 => 0xB5B0E6EF#32
  | 64 => 0x35C28A3B#32
  | 65 => 0xB5D6F23A#32
  | 66 => 0x35EEB658#32
  | 67 => 0xB6054B76#32
  | 68 => 0x3615C529#32
  | 69 => 0xB6296767#32
  | 70 => 0x3641014B#32
  | 71 => 0xB65DA20C#32
  | 72 => 0x368056F2#32
  | 73 => 0xB695FBC4#32
  | 74 => 0x36B0ED61#32
  | 75 => 0xB6D29E9B#32
  | 76 => 0x36FFBDB2#32
  | 77 => 0xB692EE32#32
  | 78 => 0x391EBB1A#32
  | 79 => 0x3B12D0DF#32
  | 80 => 0x3CA0086D#32
  | 81 => 0x3DBAD58B#32
  | 82 => 0x3E6BB748#32
  | 83 => 0x3EA069FE#32
  | 84 => 0x3E6BB748#32
  | 85 => 0x3DBAD58B#32
  | 86 => 0x3CA0086D#32
  | 87 => 0x3B12D0DF#32
  | 88 => 0x391EBB1A#32
  | 89 => 0xB692EE32#32
  | 90 => 0x36FFBDB2#32
  | 91 => 0xB6D29E9B#32
  | 92 => 0x36B0ED61#32
  | 93 => 0xB695FBC4#32
  | 94 => 0x368056F2#32
  | 95 => 0xB65DA20C#32
  | 96 => 0x3641014B#32
  | 97 => 0xB6296767#32
  | 98 => 0x3615C529#32
  | 99 => 0xB6054B76#32
  | 100 => 0x35EEB658#32
  | 101 => 0xB5D6F23A#32
  | 102 => 0x35C28A3B#32
  | 103 => 0xB5B0E6EF#32
  | 104 => 0x35A19018#32
  | 105 => 0xB5942572#32
  | 106 => 0x3588594C#32
  | 107 => 0xB57BD8F1#32
  | 108 => 0x35695670#32
  | 109 => 0xB558D5BB#32
  | 110 => 0x354A0FF9#32
  | 111 => 0xB53CCA00#32
  | 112 => 0x3530D21D#32
  | 113 => 0xB525FE56#32
  | 114 => 0x351C2B08#32
  | 115 => 0xB51339CD#32
  | 116 => 0x350B1097#32
  | 117 => 0xB50398F7#32
  | 118 => 0x34F97F13#32
  | 119 => 0xB4ECE6F7#32
  | 120 => 0x34E14C49#32
  | 121 => 0xB4D69568#32
  | 122 => 0x34CCABDA#32
  | 123 => 0xB4C37BD6#32
  | 124 => 0x34BAF3E5#32
  | 125 => 0xB4B30492#32
  | 126 => 0x34ABA023#32
  | 127 => 0xB4A4BA5F#32
  | _ => 0#32

noncomputable abbrev lit0t0_167 (i : Nat) : BitVec 32 := match i % 128 with
  | 0 => 0x349E485F#32
  | 1 => 0xB4984061#32
  | 2 => 0x349299A5#32
  | 3 => 0xB48D4C4D#32
  | 4 => 0x34885143#32
  | 5 => 0xB483A221#32
  | 6 => 0x347E723F#32
  | 7 => 0xB4762200#32
  | 8 => 0x346E49FF#32
  | 9 => 0xB466E193#32
  | 10 => 0x345FE0DA#32
  | 11 => 0xB45940A1#32
  | 12 => 0x3452FA51#32
  | 13 => 0xB44D07E6#32
  | 14 => 0x344763DA#32
  | 15 => 0xB4420919#32
  | 16 => 0x343CF2FA#32
  | 17 => 0xB4381D32#32
  | 18 => 0x343383CC#32
  | 19 => 0xB42F2322#32
  | 20 => 0x342AF7D2#32
  | 21 => 0xB426FEBD#32
  | 22 => 0x342334FF#32
  | 23 => 0xB41F97EA#32
  | 24 => 0x341C2500#32
  | 25 => 0xB418D9F0#32
  | 26 => 0x3415B495#32
  | 27 => 0xB412B2ED#32
  | 28 => 0x340FD31A#32
  | 29 => 0xB40D1360#32
  | 30 => 0x340A721F#32
  | 31 => 0xB407EDD1#32
  | 32 => 0x3405850C#32
  | 33 => 0xB403367C#32
  | 34 => 0x340100E3#32
  | 35 => 0xB3FDC62E#32
  | 36 => 0x33F9B800#32
  | 37 => 0xB3F5D532#32
  | 38 => 0x33F21BD6#32
  | 39 => 0xB3EE8A1F#32
  | 40 => 0x33EB1E5A#32
  | 41 => 0xB3E7D6EF#32
  | 42 => 0x33E4B25D#32
  | 43 => 0xB3E1AF3D#32
  | 44 => 0x33DECC38#32
  | 45 => 0xB3DC0810#32
  | 46 => 0x33D96196#32
  | 47 => 0xB3D6D7AE#32
  | 48 => 0x33D4694B#32
  | 49 => 0xB3D21572#32
  | 50 => 0x33CFDB34#32
  | 51 => 0xB3CDB9B1#32
  | 52 => 0x33CBB015#32
  | 53 => 0xB3C9BD97#32
  | 54 => 0x33C7E17D#32
  | 55 => 0xB3C61B15#32
  | 56 => 0x33C469B8#32
  | 57 => 0xB3C2CCC7#32
  | 58 => 0x33C143B0#32
  | 59 => 0xB3BFCDE6#32
  | 60 => 0x33BE6AE7#32
  | 61 => 0xB3BD1A36#32
  | 62 => 0x33BBDB61#32
  | 63 => 0xB3BAADFB#32
  | 64 => 0x33B9919E#32
  | 65 => 0xB3B885EC#32
  | 66 => 0x33B78A8A#32
  | 67 => 0xB3B69F28#32
  | 68 => 0x33B5C377#32
  | 69 => 0xB3B4F732#32
  | 70 => 0x33B43A15#32
  | 71 => 0xB3B38BE5#32
  | 72 => 0x33B2EC6A#32
  | 73 => 0xB3B25B72#32
  | 74 => 0x33B1D8CF#32
  | 75 => 0xB3B16459#32
  | 76 => 0x33B0FDEA#32
  | 77 => 0xB3B0A563#32
  | 78 => 0x33B05AA9#32
  | 79 => 0xB3B01DA5#32
  | 80 => 0x33AFEE43#32
  | 81 => 0xB3AFCC75#32
  | 82 => 0x33AFB831#32
  | 83 => 0xB3AFB170#32
  | 84 => 0x33AFB831#32
  | 85 => 0xB3AFCC75#32
  | 86 => 0x33AFEE43#32
  | 87 => 0xB3B01DA5#32
  | 88 => 0x33B05AA9#32
  | 89 => 0xB3B0A563#32
  | 90 => 0x33B0FDEA#32
  | 91 => 0xB3B16459#32
  | 92 => 0x33B1D8CF#32
  | 93 => 0xB3B25B72#32
  | 94 => 0x33B2EC6A#32
  | 95 => 0xB3B38BE5#32
  | 96 => 0x33B43A15#32
  | 97 => 0xB3B4F732#32
  | 98 => 0x33B5C377#32
  | 99 => 0xB3B69F28#32
  | 100 => 0x33B78A8A#32
  | 101 => 0xB3B885EC#32
  | 102 => 0x33B9919E#32
  | 103 => 0xB3BAADFB#32
  | 104 => 0x33BBDB61#32
  | 105 => 0xB3BD1A36#32
  | 106 => 0x33BE6AE7#32
  | 107 => 0xB3BFCDE6#32
  | 108 => 0x33C143B0#32
  | 109 => 0xB3C2CCC7#32
  | 110 => 0x33C469B8#32
  | 111 => 0xB3C61B15#32
  | 112 => 0x33C7E17D#32
  | 113 => 0xB3C9BD97#32
  | 114 => 0x33CBB015#32
  | 115 => 0xB3CDB9B1#32
  | 116 => 0x33CFDB34#32
  | 117 => 0xB3D21572#32
  | 118 => 0x33D4694B#32
  | 119 => 0xB3D6D7AE#32
  | 120 => 0x33D96196#32
  | 121 => 0xB3DC0810#32
  | 122 => 0x33DECC38#32
  | 123 => 0xB3E1AF3D#32
  | 124 => 0x33E4B25D#32
  | 125 => 0xB3E7D6EF#32
  | 126 => 0x33EB1E5A#32
  | 127 => 0xB3EE8A1F#32
  | _ => 0#32

noncomputable abbrev lit0t0_168 (i : Nat) : BitVec 32 := match i % 128 with
  | 0 => 0xB3EE8A1F#32
  | 1 => 0x33F21BD6#32
  | 2 => 0xB3F5D532#32
  | 3 => 0x33F9B800#32
  | 4 => 0xB3FDC62E#32
  | 5 => 0x340100E3#32
  | 6 => 0xB403367C#32
  | 7 => 0x3405850C#32
  | 8 => 0xB407EDD1#32
  | 9 => 0x340A721F#32
  | 10 => 0xB40D1360#32
  | 11 => 0x340FD31A#32
  | 12 => 0xB412B2ED#32
  | 13 => 0x3415B495#32
  | 14 => 0xB418D9F0#32
  | 15 => 0x341C2500#32
  | 16 => 0xB41F97EA#32
  | 17 => 0x342334FF#32
  | 18 => 0xB426FEBD#32
  | 19 => 0x342AF7D2#32
  | 20 => 0xB42F2322#32
  | 21 => 0x343383CC#32
  | 22 => 0xB4381D32#32
  | 23 => 0x343CF2FA#32
  | 24 => 0xB4420919#32
  | 25 => 0x344763DA#32
  | 26 => 0xB44D07E6#32
  | 27 => 0x3452FA51#32
  | 28 => 0xB45940A1#32
  | 29 => 0x345FE0DA#32
  | 30 => 0xB466E193#32
  | 31 => 0x346E49FF#32
  | 32 => 0xB4762200#32
  | 33 => 0x347E723F#32
  | 34 => 0xB483A221#32
  | 35 => 0x34885142#32
  | 36 => 0xB48D4C4D#32
  | 37 => 0x349299A5#32
  | 38 => 0xB4984061#32
  | 39 => 0x349E485F#32
  | 40 => 0xB4A4BA5F#32
  | 41 => 0x34ABA023#32
  | 42 => 0xB4B30492#32
  | 43 => 0x34BAF3E5#32
  | 44 => 0xB4C37BD6#32
  | 45 => 0x34CCABDA#32
  | 46 => 0xB4D69568#32
  | 47 => 0x34E14C49#32
  | 48 => 0xB4ECE6F7#32
  | 49 => 0x34F97F13#32
  | 50 => 0xB50398F7#32
  | 51 => 0x350B1097#32
  | 52 => 0xB51339CD#32
  | 53 => 0x351C2B08#32
  | 54 => 0xB525FE56#32
  | 55 => 0x3530D21D#32
  | 56 => 0xB53CCA00#32
  | 57 => 0x354A0FF9#32
  | 58 => 0xB558D5BB#32
  | 59 => 0x35695670#32
  | 60 => 0xB57BD8F1#32
  | 61 => 0x3588594C#32
  | 62 => 0xB5942572#32
  | 63 => 0x35A19018#32
  | 64 => 0xB5B0E6EF#32
  | 65 => 0x35C28A3B#32
  | 66 => 0xB5D6F23A#32
  | 67 => 0x35EEB658#32
  | 68 => 0xB6054B76#32
  | 69 => 0x3615C529#32
  | 70 => 0xB6296767#32
  | 71 => 0x3641014B#32
  | 72 => 0xB65DA20C#32
  | 73 => 0x368056F2#32
  | 74 => 0xB695FBC4#32
  | 75 => 0x36B0ED61#32
  | 76 => 0xB6D29E9B#32
  | 77 => 0x36FFBDB2#32
  | 78 => 0xB692EE32#32
  | 79 => 0x391EBB1A#32
  | 80 => 0x3B12D0DF#32
  | 81 => 0x3CA0086D#32
  | 82 => 0x3DBAD58B#32
  | 83 => 0x3E6BB748#32
  | 84 => 0x3EA069FE#32
  | 85 => 0x3E6BB748#32
  | 86 => 0x3DBAD58B#32
  | 87 => 0x3CA0086D#32
  | 88 => 0x3B12D0DF#32
  | 89 => 0x391EBB1A#32
  | 90 => 0xB692EE32#32
  | 91 => 0x36FFBDB2#32
  | 92 => 0xB6D29E9B#32
  | 93 => 0x36B0ED61#32
  | 94 => 0xB695FBC4#32
  | 95 => 0x368056F2#32
  | 96 => 0xB65DA20C#32
  | 97 => 0x3641014B#32
  | 98 => 0xB6296767#32
  | 99 => 0x3615C529#32
  | 100 => 0xB6054B76#32
  | 101 => 0x35EEB658#32
  | 102 => 0xB5D6F23A#32
  | 103 => 0x35C28A3B#32
  | 104 => 0xB5B0E6EF#32
  | 105 => 0x35A19018#32
  | 106 => 0xB5942572#32
  | 107 => 0x3588594C#32
  | 108 => 0xB57BD8F1#32
  | 109 => 0x35695670#32
  | 110 => 0xB558D5BB#32
  | 111 => 0x354A0FF9#32
  | 112 => 0xB53CCA00#32
  | 113 => 0x3530D21D#32
  | 114 => 0xB525FE56#32
  | 115 => 0x351C2B08#32
  | 116 => 0xB51339CD#32
  | 117 => 0x350B1097#32
  | 118 => 0xB50398F7#32
  | 119 => 0x34F97F13#32
  | 120 => 0xB4ECE6F7#32
  | 121 => 0x34E14C49#32
  | 122 => 0xB4D69568#32
  | 123 => 0x34CCABDA#32
  | 124 => 0xB4C37BD6#32
  | 125 => 0x34BAF3E5#32
  | 126 => 0xB4B30492#32
  | 127 => 0x34ABA023#32
  | _ => 0#32

noncomputable abbrev lit0t0_169 (i : Nat) : BitVec 32 := match i % 128 with
  | 0 => 0xB4A4BA5F#32
  | 1 => 0x349E485F#32
  | 2 => 0xB4984061#32
  | 3 => 0x349299A5#32
  | 4 => 0xB48D4C4D#32
  | 5 => 0x34885142#32
  | 6 => 0xB483A221#32
  | 7 => 0x347E723F#32
  | 8 => 0xB4762200#32
  | 9 => 0x346E49FF#32
  | 10 => 0xB466E193#32
  | 11 => 0x345FE0DA#32
  | 12 => 0xB45940A1#32
  | 13 => 0x3452FA51#32
  | 14 => 0xB44D07E6#32
  | 15 => 0x344763DA#32
  | 16 => 0xB4420919#32
  | 17 => 0x343CF2FA#32
  | 18 => 0xB4381D32#32
  | 19 => 0x343383CC#32
  | 20 => 0xB42F2322#32
  | 21 => 0x342AF7D2#32
  | 22 => 0xB426FEBD#32
  | 23 => 0x342334FF#32
  | 24 => 0xB41F97EA#32
  | 25 => 0x341C2500#32
  | 26 => 0xB418D9F0#32
  | 27 => 0x3415B495#32
  | 28 => 0xB412B2ED#32
  | 29 => 0x340FD31A#32
  | 30 => 0xB40D1360#32
  | 31 => 0x340A721F#32
  | 32 => 0xB407EDD1#32
  | 33 => 0x3405850C#32
  | 34 => 0xB403367C#32
  | 35 => 0x340100E3#32
  | 36 => 0xB3FDC62E#32
  | 37 => 0x33F9B800#32
  | 38 => 0xB3F5D532#32
  | 39 => 0x33F21BD6#32
  | 40 => 0xB3EE8A1F#32
  | 41 => 0x33EB1E5A#32
  | 42 => 0xB3E7D6EF#32
  | 43 => 0x33E4B25D#32
  | 44 => 0xB3E1AF3D#32
  | 45 => 0x33DECC38#32
  | 46 => 0xB3DC0810#32
  | 47 => 0x33D96196#32
  | 48 => 0xB3D6D7AE#32
  | 49 => 0x33D4694B#32
  | 50 => 0xB3D21572#32
  | 51 => 0x33CFDB34#32
  | 52 => 0xB3CDB9B1#32
  | 53 => 0x33CBB015#32
  | 54 => 0xB3C9BD97#32
  | 55 => 0x33C7E17D#32
  | 56 => 0xB3C61B15#32
  | 57 => 0x33C469B8#32
  | 58 => 0xB3C2CCC7#32
  | 59 => 0x33C143B0#32
  | 60 => 0xB3BFCDE6#32
  | 61 => 0x33BE6AE7#32
  | 62 => 0xB3BD1A36#32
  | 63 => 0x33BBDB61#32
  | 64 => 0xB3BAADFB#32
  | 65 => 0x33B9919E#32
  | 66 => 0xB3B885EC#32
  | 67 => 0x33B78A8A#32
  | 68 => 0xB3B69F28#32
  | 69 => 0x33B5C377#32
  | 70 => 0xB3B4F732#32
  | 71 => 0x33B43A15#32
  | 72 => 0xB3B38BE5#32
  | 73 => 0x33B2EC6A#32
  | 74 => 0xB3B25B72#32
  | 75 => 0x33B1D8CF#32
  | 76 => 0xB3B16459#32
  | 77 => 0x33B0FDEA#32
  | 78 => 0xB3B0A563#32
  | 79 => 0x33B05AA9#32
  | 80 => 0xB3B01DA5#32
  | 81 => 0x33AFEE43#32
  | 82 => 0xB3AFCC75#32
  | 83 => 0x33AFB831#32
  | 84 => 0xB3AFB170#32
  | 85 => 0x33AFB831#32
  | 86 => 0xB3AFCC75#32
  | 87 => 0x33AFEE43#32
  | 88 => 0xB3B01DA5#32
  | 89 => 0x33B05AA9#32
  | 90 => 0xB3B0A563#32
  | 91 => 0x33B0FDEA#32
  | 92 => 0xB3B16459#32
  | 93 => 0x33B1D8CF#32
  | 94 => 0xB3B25B72#32
  | 95 => 0x33B2EC6A#32
  | 96 => 0xB3B38BE5#32
  | 97 => 0x33B43A15#32
  | 98 => 0xB3B4F732#32
  | 99 => 0x33B5C377#32
  | 100 => 0xB3B69F28#32
  | 101 => 0x33B78A8A#32
  | 102 => 0xB3B885EC#32
  | 103 => 0x33B9919E#32
  | 104 => 0xB3BAADFB#32
  | 105 => 0x33BBDB61#32
  | 106 => 0xB3BD1A36#32
  | 107 => 0x33BE6AE7#32
  | 108 => 0xB3BFCDE6#32
  | 109 => 0x33C143B0#32
  | 110 => 0xB3C2CCC7#32
  | 111 => 0x33C469B8#32
  | 112 => 0xB3C61B15#32
  | 113 => 0x33C7E17D#32
  | 114 => 0xB3C9BD97#32
  | 115 => 0x33CBB015#32
  | 116 => 0xB3CDB9B1#32
  | 117 => 0x33CFDB34#32
  | 118 => 0xB3D21572#32
  | 119 => 0x33D4694B#32
  | 120 => 0xB3D6D7AE#32
  | 121 => 0x33D96196#32
  | 122 => 0xB3DC0810#32
  | 123 => 0x33DECC38#32
  | 124 => 0xB3E1AF3D#32
  | 125 => 0x33E4B25D#32
  | 126 => 0xB3E7D6EF#32
  | 127 => 0x33EB1E5A#32
  | _ => 0#32

noncomputable abbrev lit0t0_170 (i : Nat) : BitVec 32 := match i % 128 with
  | 0 => 0x33EB1E5A#32
  | 1 => 0xB3EE8A1F#32
  | 2 => 0x33F21BD6#32
  | 3 => 0xB3F5D532#32
  | 4 => 0x33F9B800#32
  | 5 => 0xB3FDC62E#32
  | 6 => 0x340100E3#32
  | 7 => 0xB403367C#32
  | 8 => 0x3405850C#32
  | 9 => 0xB407EDD1#32
  | 10 => 0x340A721F#32
  | 11 => 0xB40D1360#32
  | 12 => 0x340FD31A#32
  | 13 => 0xB412B2ED#32
  | 14 => 0x3415B495#32
  | 15 => 0xB418D9F0#32
  | 16 => 0x341C2500#32
  | 17 => 0xB41F97EA#32
  | 18 => 0x342334FF#32
  | 19 => 0xB426FEBD#32
  | 20 => 0x342AF7D2#32
  | 21 => 0xB42F2322#32
  | 22 => 0x343383CC#32
  | 23 => 0xB4381D32#32
  | 24 => 0x343CF2FA#32
  | 25 => 0xB4420919#32
  | 26 => 0x344763DA#32
  | 27 => 0xB44D07E6#32
  | 28 => 0x3452FA51#32
  | 29 => 0xB45940A1#32
  | 30 => 0x345FE0DA#32
  | 31 => 0xB466E193#32
  | 32 => 0x346E49FF#32
  | 33 => 0xB4762200#32
  | 34 => 0x347E723F#32
  | 35 => 0xB483A221#32
  | 36 => 0x34885143#32
  | 37 => 0xB48D4C4D#32
  | 38 => 0x349299A5#32
  | 39 => 0xB4984061#32
  | 40 => 0x349E485F#32
  | 41 => 0xB4A4BA5F#32
  | 42 => 0x34ABA023#32
  | 43 => 0xB4B30492#32
  | 44 => 0x34BAF3E5#32
  | 45 => 0xB4C37BD6#32
  | 46 => 0x34CCABDA#32
  | 47 => 0xB4D69568#32
  | 48 => 0x34E14C49#32
  | 49 => 0xB4ECE6F7#32
  | 50 => 0x34F97F13#32
  | 51 => 0xB50398F7#32
  | 52 => 0x350B1097#32
  | 53 => 0xB51339CD#32
  | 54 => 0x351C2B08#32
  | 55 => 0xB525FE56#32
  | 56 => 0x3530D21D#32
  | 57 => 0xB53CCA00#32
  | 58 => 0x354A0FF9#32
  | 59 => 0xB558D5BB#32
  | 60 => 0x35695670#32
  | 61 => 0xB57BD8F1#32
  | 62 => 0x3588594C#32
  | 63 => 0xB5942572#32
  | 64 => 0x35A19018#32
  | 65 => 0xB5B0E6EF#32
  | 66 => 0x35C28A3B#32
  | 67 => 0xB5D6F23A#32
  | 68 => 0x35EEB658#32
  | 69 => 0xB6054B76#32
  | 70 => 0x3615C529#32
  | 71 => 0xB6296767#32
  | 72 => 0x3641014B#32
  | 73 => 0xB65DA20C#32
  | 74 => 0x368056F2#32
  | 75 => 0xB695FBC4#32
  | 76 => 0x36B0ED61#32
  | 77 => 0xB6D29E9B#32
  | 78 => 0x36FFBDB2#32
  | 79 => 0xB692EE32#32
  | 80 => 0x391EBB1A#32
  | 81 => 0x3B12D0DF#32
  | 82 => 0x3CA0086D#32
  | 83 => 0x3DBAD58B#32
  | 84 => 0x3E6BB748#32
  | 85 => 0x3EA069FE#32
  | 86 => 0x3E6BB748#32
  | 87 => 0x3DBAD58B#32
  | 88 => 0x3CA0086D#32
  | 89 => 0x3B12D0DF#32
  | 90 => 0x391EBB1A#32
  | 91 => 0xB692EE32#32
  | 92 => 0x36FFBDB2#32
  | 93 => 0xB6D29E9B#32
  | 94 => 0x36B0ED61#32
  | 95 => 0xB695FBC4#32
  | 96 => 0x368056F2#32
  | 97 => 0xB65DA20C#32
  | 98 => 0x3641014B#32
  | 99 => 0xB6296767#32
  | 100 => 0x3615C529#32
  | 101 => 0xB6054B76#32
  | 102 => 0x35EEB658#32
  | 103 => 0xB5D6F23A#32
  | 104 => 0x35C28A3B#32
  | 105 => 0xB5B0E6EF#32
  | 106 => 0x35A19018#32
  | 107 => 0xB5942572#32
  | 108 => 0x3588594C#32
  | 109 => 0xB57BD8F1#32
  | 110 => 0x35695670#32
  | 111 => 0xB558D5BB#32
  | 112 => 0x354A0FF9#32
  | 113 => 0xB53CCA00#32
  | 114 => 0x3530D21D#32
  | 115 => 0xB525FE56#32
  | 116 => 0x351C2B08#32
  | 117 => 0xB51339CD#32
  | 118 => 0x350B1097#32
  | 119 => 0xB50398F7#32
  | 120 => 0x34F97F13#32
  | 121 => 0xB4ECE6F7#32
  | 122 => 0x34E14C49#32
  | 123 => 0xB4D69568#32
  | 124 => 0x34CCABDA#32
  | 125 => 0xB4C37BD6#32
  | 126 => 0x34BAF3E5#32
  | 127 => 0xB4B30492#32
  | _ => 0#32

noncomputable abbrev lit0t0_171 (i : Nat) : BitVec 32 := match i % 128 with
  | 0 => 0x34ABA023#32
  | 1 => 0xB4A4BA5F#32
  | 2 => 0x349E485F#32
  | 3 => 0xB4984061#32
  | 4 => 0x349299A5#32
  | 5 => 0xB48D4C4D#32
  | 6 => 0x34885143#32
  | 7 => 0xB483A221#32
  | 8 => 0x347E723F#32
  | 9 => 0xB4762200#32
  | 10 => 0x346E49FF#32
  | 11 => 0xB466E193#32
  | 12 => 0x345FE0DA#32
  | 13 => 0xB45940A1#32
  | 14 => 0x3452FA51#32
  | 15 => 0xB44D07E6#32
  | 16 => 0x344763DA#32
  | 17 => 0xB4420919#32
  | 18 => 0x343CF2FA#32
  | 19 => 0xB4381D32#32
  | 20 => 0x343383CC#32
  | 21 => 0xB42F2322#32
  | 22 => 0x342AF7D2#32
  | 23 => 0xB426FEBD#32
  | 24 => 0x342334FF#32
  | 25 => 0xB41F97EA#32
  | 26 => 0x341C2500#32
  | 27 => 0xB418D9F0#32
  | 28 => 0x3415B495#32
  | 29 => 0xB412B2ED#32
  | 30 => 0x340FD31A#32
  | 31 => 0xB40D1360#32
  | 32 => 0x340A721F#32
  | 33 => 0xB407EDD1#32
  | 34 => 0x3405850C#32
  | 35 => 0xB403367C#32
  | 36 => 0x340100E3#32
  | 37 => 0xB3FDC62E#32
  | 38 => 0x33F9B800#32
  | 39 => 0xB3F5D532#32
  | 40 => 0x33F21BD6#32
  | 41 => 0xB3EE8A1F#32
  | 42 => 0x33EB1E5A#32
  | 43 => 0xB3E7D6EF#32
  | 44 => 0x33E4B25D#32
  | 45 => 0xB3E1AF3D#32
  | 46 => 0x33DECC38#32
  | 47 => 0xB3DC0810#32
  | 48 => 0x33D96196#32
  | 49 => 0xB3D6D7AE#32
  | 50 => 0x33D4694B#32
  | 51 => 0xB3D21572#32
  | 52 => 0x33CFDB34#32
  | 53 => 0xB3CDB9B1#32
  | 54 => 0x33CBB015#32
  | 55 => 0xB3C9BD97#32
  | 56 => 0x33C7E17D#32
  | 57 => 0xB3C61B15#32
  | 58 => 0x33C469B8#32
  | 59 => 0xB3C2CCC7#32
  | 60 => 0x33C143B0#32
  | 61 => 0xB3BFCDE6#32
  | 62 => 0x33BE6AE7#32
  | 63 => 0xB3BD1A36#32
  | 64 => 0x33BBDB61#32
  | 65 => 0xB3BAADFB#32
  | 66 => 0x33B9919E#32
  | 67 => 0xB3B885EC#32
  | 68 => 0x33B78A8A#32
  | 69 => 0xB3B69F28#32
  | 70 => 0x33B5C377#32
  | 71 => 0xB3B4F732#32
  | 72 => 0x33B43A15#32
  | 73 => 0xB3B38BE5#32
  | 74 => 0x33B2EC6A#32
  | 75 => 0xB3B25B72#32
  | 76 => 0x33B1D8CF#32
  | 77 => 0xB3B16459#32
  | 78 => 0x33B0FDEA#32
  | 79 => 0xB3B0A563#32
  | 80 => 0x33B05AA9#32
  | 81 => 0xB3B01DA5#32
  | 82 => 0x33AFEE43#32
  | 83 => 0xB3AFCC75#32
  | 84 => 0x33AFB831#32
  | 85 => 0xB3AFB170#32
  | 86 => 0x33AFB831#32
  | 87 => 0xB3AFCC75#32
  | 88 => 0x33AFEE43#32
  | 89 => 0xB3B01DA5#32
  | 90 => 0x33B05AA9#32
  | 91 => 0xB3B0A563#32
  | 92 => 0x33B0FDEA#32
  | 93 => 0xB3B16459#32
  | 94 => 0x33B1D8CF#32
  | 95 => 0xB3B25B72#32
  | 96 => 0x33B2EC6A#32
  | 97 => 0xB3B38BE5#32
  | 98 => 0x33B43A15#32
  | 99 => 0xB3B4F732#32
  | 100 => 0x33B5C377#32
  | 101 => 0xB3B69F28#32
  | 102 => 0x33B78A8A#32
  | 103 => 0xB3B885EC#32
  | 104 => 0x33B9919E#32
  | 105 => 0xB3BAADFB#32
  | 106 => 0x33BBDB61#32
  | 107 => 0xB3BD1A36#32
  | 108 => 0x33BE6AE7#32
  | 109 => 0xB3BFCDE6#32
  | 110 => 0x33C143B0#32
  | 111 => 0xB3C2CCC7#32
  | 112 => 0x33C469B8#32
  | 113 => 0xB3C61B15#32
  | 114 => 0x33C7E17D#32
  | 115 => 0xB3C9BD97#32
  | 116 => 0x33CBB015#32
  | 117 => 0xB3CDB9B1#32
  | 118 => 0x33CFDB34#32
  | 119 => 0xB3D21572#32
  | 120 => 0x33D4694B#32
  | 121 => 0xB3D6D7AE#32
  | 122 => 0x33D96196#32
  | 123 => 0xB3DC0810#32
  | 124 => 0x33DECC38#32
  | 125 => 0xB3E1AF3D#32
  | 126 => 0x33E4B25D#32
  | 127 => 0xB3E7D6EF#32
  | _ => 0#32

noncomputable abbrev lit0t0_172 (i : Nat) : BitVec 32 := match i % 128 with
  | 0 => 0xB3E7D6EF#32
  | 1 => 0x33EB1E5A#32
  | 2 => 0xB3EE8A1F#32
  | 3 => 0x33F21BD6#32
  | 4 => 0xB3F5D532#32
  | 5 => 0x33F9B800#32
  | 6 => 0xB3FDC62E#32
  | 7 => 0x340100E3#32
  | 8 => 0xB403367C#32
  | 9 => 0x3405850C#32
  | 10 => 0xB407EDD1#32
  | 11 => 0x340A721F#32
  | 12 => 0xB40D1360#32
  | 13 => 0x340FD31A#32
  | 14 => 0xB412B2ED#32
  | 15 => 0x3415B495#32
  | 16 => 0xB418D9F0#32
  | 17 => 0x341C2500#32
  | 18 => 0xB41F97EA#32
  | 19 => 0x342334FF#32
  | 20 => 0xB426FEBD#32
  | 21 => 0x342AF7D2#32
  | 22 => 0xB42F2322#32
  | 23 => 0x343383CC#32
  | 24 => 0xB4381D32#32
  | 25 => 0x343CF2FA#32
  | 26 => 0xB4420919#32
  | 27 => 0x344763DA#32
  | 28 => 0xB44D07E6#32
  | 29 => 0x3452FA51#32
  | 30 => 0xB45940A1#32
  | 31 => 0x345FE0DA#32
  | 32 => 0xB466E193#32
  | 33 => 0x346E49FF#32
  | 34 => 0xB4762200#32
  | 35 => 0x347E723F#32
  | 36 => 0xB483A221#32
  | 37 => 0x34885143#32
  | 38 => 0xB48D4C4D#32
  | 39 => 0x349299A5#32
  | 40 => 0xB4984061#32
  | 41 => 0x349E485F#32
  | 42 => 0xB4A4BA5F#32
  | 43 => 0x34ABA023#32
  | 44 => 0xB4B30492#32
  | 45 => 0x34BAF3E5#32
  | 46 => 0xB4C37BD6#32
  | 47 => 0x34CCABDA#32
  | 48 => 0xB4D69568#32
  | 49 => 0x34E14C49#32
  | 50 => 0xB4ECE6F7#32
  | 51 => 0x34F97F13#32
  | 52 => 0xB50398F7#32
  | 53 => 0x350B1097#32
  | 54 => 0xB51339CD#32
  | 55 => 0x351C2B08#32
  | 56 => 0xB525FE56#32
  | 57 => 0x3530D21D#32
  | 58 => 0xB53CCA00#32
  | 59 => 0x354A0FF9#32
  | 60 => 0xB558D5BB#32
  | 61 => 0x35695670#32
  | 62 => 0xB57BD8F1#32
  | 63 => 0x3588594C#32
  | 64 => 0xB5942572#32
  | 65 => 0x35A19018#32
  | 66 => 0xB5B0E6EF#32
  | 67 => 0x35C28A3B#32
  | 68 => 0xB5D6F23A#32
  | 69 => 0x35EEB658#32
  | 70 => 0xB6054B76#32
  | 71 => 0x3615C529#32
  | 72 => 0xB6296767#32
  | 73 => 0x3641014B#32
  | 74 => 0xB65DA20C#32
  | 75 => 0x368056F2#32
  | 76 => 0xB695FBC4#32
  | 77 => 0x36B0ED61#32
  | 78 => 0xB6D29E9B#32
  | 79 => 0x36FFBDB2#32
  | 80 => 0xB692EE32#32
  | 81 => 0x391EBB1A#32
  | 82 => 0x3B12D0DF#32
  | 83 => 0x3CA0086D#32
  | 84 => 0x3DBAD58B#32
  | 85 => 0x3E6BB748#32
  | 86 => 0x3EA069FE#32
  | 87 => 0x3E6BB748#32
  | 88 => 0x3DBAD58B#32
  | 89 => 0x3CA0086D#32
  | 90 => 0x3B12D0DF#32
  | 91 => 0x391EBB1A#32
  | 92 => 0xB692EE32#32
  | 93 => 0x36FFBDB2#32
  | 94 => 0xB6D29E9B#32
  | 95 => 0x36B0ED61#32
  | 96 => 0xB695FBC4#32
  | 97 => 0x368056F2#32
  | 98 => 0xB65DA20C#32
  | 99 => 0x3641014B#32
  | 100 => 0xB6296767#32
  | 101 => 0x3615C529#32
  | 102 => 0xB6054B76#32
  | 103 => 0x35EEB658#32
  | 104 => 0xB5D6F23A#32
  | 105 => 0x35C28A3B#32
  | 106 => 0xB5B0E6EF#32
  | 107 => 0x35A19018#32
  | 108 => 0xB5942572#32
  | 109 => 0x3588594C#32
  | 110 => 0xB57BD8F1#32
  | 111 => 0x35695670#32
  | 112 => 0xB558D5BB#32
  | 113 => 0x354A0FF9#32
  | 114 => 0xB53CCA00#32
  | 115 => 0x3530D21D#32
  | 116 => 0xB525FE56#32
  | 117 => 0x351C2B08#32
  | 118 => 0xB51339CD#32
  | 119 => 0x350B1097#32
  | 120 => 0xB50398F7#32
  | 121 => 0x34F97F13#32
  | 122 => 0xB4ECE6F7#32
  | 123 => 0x34E14C49#32
  | 124 => 0xB4D69568#32
  | 125 => 0x34CCABDA#32
  | 126 => 0xB4C37BD6#32
  | 127 => 0x34BAF3E5#32
  | _ => 0#32

noncomputable abbrev lit0t0_173 (i : Nat) : BitVec 32 := match i % 128 with
  | 0 => 0xB4B30492#32
  | 1 => 0x34ABA023#32
  | 2 => 0xB4A4BA5F#32
  | 3 => 0x349E485F#32
  | 4 => 0xB4984061#32
  | 5 => 0x349299A5#32
  | 6 => 0xB48D4C4D#32
  | 7 => 0x34885143#32
  | 8 => 0xB483A221#32
  | 9 => 0x347E723F#32
  | 10 => 0xB4762200#32
  | 11 => 0x346E49FF#32
  | 12 => 0xB466E193#32
  | 13 => 0x345FE0DA#32
  | 14 => 0xB45940A1#32
  | 15 => 0x3452FA51#32
  | 16 => 0xB44D07E6#32
  | 17 => 0x344763DA#32
  | 18 => 0xB4420919#32
  | 19 => 0x343CF2FA#32
  | 20 => 0xB4381D32#32
  | 21 => 0x343383CC#32
  | 22 => 0xB42F2322#32
  | 23 => 0x342AF7D2#32
  | 24 => 0xB426FEBD#32
  | 25 => 0x342334FF#32
  | 26 => 0xB41F97EA#32
  | 27 => 0x341C2500#32
  | 28 => 0xB418D9F0#32
  | 29 => 0x3415B495#32
  | 30 => 0xB412B2ED#32
  | 31 => 0x340FD31A#32
  | 32 => 0xB40D1360#32
  | 33 => 0x340A721F#32
  | 34 => 0xB407EDD1#32
  | 35 => 0x3405850C#32
  | 36 => 0xB403367C#32
  | 37 => 0x340100E3#32
  | 38 => 0xB3FDC62E#32
  | 39 => 0x33F9B800#32
  | 40 => 0xB3F5D532#32
  | 41 => 0x33F21BD6#32
  | 42 => 0xB3EE8A1F#32
  | 43 => 0x33EB1E5A#32
  | 44 => 0xB3E7D6EF#32
  | 45 => 0x33E4B25D#32
  | 46 => 0xB3E1AF3D#32
  | 47 => 0x33DECC38#32
  | 48 => 0xB3DC0810#32
  | 49 => 0x33D96196#32
  | 50 => 0xB3D6D7AE#32
  | 51 => 0x33D4694B#32
  | 52 => 0xB3D21572#32
  | 53 => 0x33CFDB34#32
  | 54 => 0xB3CDB9B1#32
  | 55 => 0x33CBB015#32
  | 56 => 0xB3C9BD97#32
  | 57 => 0x33C7E17D#32
  | 58 => 0xB3C61B15#32
  | 59 => 0x33C469B8#32
  | 60 => 0xB3C2CCC7#32
  | 61 => 0x33C143B0#32
  | 62 => 0xB3BFCDE6#32
  | 63 => 0x33BE6AE7#32
  | 64 => 0xB3BD1A36#32
  | 65 => 0x33BBDB61#32
  | 66 => 0xB3BAADFB#32
  | 67 => 0x33B9919E#32
  | 68 => 0xB3B885EC#32
  | 69 => 0x33B78A8A#32
  | 70 => 0xB3B69F28#32
  | 71 => 0x33B5C377#32
  | 72 => 0xB3B4F732#32
  | 73 => 0x33B43A15#32
  | 74 => 0xB3B38BE5#32
  | 75 => 0x33B2EC6A#32
  | 76 => 0xB3B25B72#32
  | 77 => 0x33B1D8CF#32
  | 78 => 0xB3B16459#32
  | 79 => 0x33B0FDEA#32
  | 80 => 0xB3B0A563#32
  | 81 => 0x33B05AA9#32
  | 82 => 0xB3B01DA5#32
  | 83 => 0x33AFEE43#32
  | 84 => 0xB3AFCC75#32
  | 85 => 0x33AFB831#32
  | 86 => 0xB3AFB170#32
  | 87 => 0x33AFB831#32
  | 88 => 0xB3AFCC75#32
  | 89 => 0x33AFEE43#32
  | 90 => 0xB3B01DA5#32
  | 91 => 0x33B05AA9#32
  | 92 => 0xB3B0A563#32
  | 93 => 0x33B0FDEA#32
  | 94 => 0xB3B16459#32
  | 95 => 0x33B1D8CF#32
  | 96 => 0xB3B25B72#32
  | 97 => 0x33B2EC6A#32
  | 98 => 0xB3B38BE5#32
  | 99 => 0x33B43A15#32
  | 100 => 0xB3B4F732#32
  | 101 => 0x33B5C377#32
  | 102 => 0xB3B69F28#32
  | 103 => 0x33B78A8A#32
  | 104 => 0xB3B885EC#32
  | 105 => 0x33B9919E#32
  | 106 => 0xB3BAADFB#32
  | 107 => 0x33BBDB61#32
  | 108 => 0xB3BD1A36#32
  | 109 => 0x33BE6AE7#32
  | 110 => 0xB3BFCDE6#32
  | 111 => 0x33C143B0#32
  | 112 => 0xB3C2CCC7#32
  | 113 => 0x33C469B8#32
  | 114 => 0xB3C61B15#32
  | 115 => 0x33C7E17D#32
  | 116 => 0xB3C9BD97#32
  | 117 => 0x33CBB015#32
  | 118 => 0xB3CDB9B1#32
  | 119 => 0x33CFDB34#32
  | 120 => 0xB3D21572#32
  | 121 => 0x33D4694B#32
  | 122 => 0xB3D6D7AE#32
  | 123 => 0x33D96196#32
  | 124 => 0xB3DC0810#32
  | 125 => 0x33DECC38#32
  | 126 => 0xB3E1AF3D#32
  | 127 => 0x33E4B25D#32
  | _ => 0#32

noncomputable abbrev lit0t0_174 (i : Nat) : BitVec 32 := match i % 128 with
  | 0 => 0x33E4B25D#32
  | 1 => 0xB3E7D6EF#32
  | 2 => 0x33EB1E5A#32
  | 3 => 0xB3EE8A1F#32
  | 4 => 0x33F21BD6#32
  | 5 => 0xB3F5D532#32
  | 6 => 0x33F9B800#32
  | 7 => 0xB3FDC62E#32
  | 8 => 0x340100E3#32
  | 9 => 0xB403367C#32
  | 10 => 0x3405850C#32
  | 11 => 0xB407EDD1#32
  | 12 => 0x340A721F#32
  | 13 => 0xB40D1360#32
  | 14 => 0x340FD31A#32
  | 15 => 0xB412B2ED#32
  | 16 => 0x3415B495#32
  | 17 => 0xB418D9F0#32
  | 18 => 0x341C2500#32
  | 19 => 0xB41F97EA#32
  | 20 => 0x342334FF#32
  | 21 => 0xB426FEBD#32
  | 22 => 0x342AF7D2#32
  | 23 => 0xB42F2322#32
  | 24 => 0x343383CC#32
  | 25 => 0xB4381D32#32
  | 26 => 0x343CF2FA#32
  | 27 => 0xB4420919#32
  | 28 => 0x344763DA#32
  | 29 => 0xB44D07E6#32
  | 30 => 0x3452FA51#32
  | 31 => 0xB45940A1#32
  | 32 => 0x345FE0DA#32
  | 33 => 0xB466E193#32
  | 34 => 0x346E49FF#32
  | 35 => 0xB4762200#32
  | 36 => 0x347E723F#32
  | 37 => 0xB483A221#32
  | 38 => 0x34885142#32
  | 39 => 0xB48D4C4D#32
  | 40 => 0x349299A5#32
  | 41 => 0xB4984061#32
  | 42 => 0x349E485F#32
  | 43 => 0xB4A4BA5F#32
  | 44 => 0x34ABA023#32
  | 45 => 0xB4B30492#32
  | 46 => 0x34BAF3E5#32
  | 47 => 0xB4C37BD6#32
  | 48 => 0x34CCABDA#32
  | 49 => 0xB4D69568#32
  | 50 => 0x34E14C49#32
  | 51 => 0xB4ECE6F7#32
  | 52 => 0x34F97F13#32
  | 53 => 0xB50398F7#32
  | 54 => 0x350B1097#32
  | 55 => 0xB51339CD#32
  | 56 => 0x351C2B08#32
  | 57 => 0xB525FE56#32
  | 58 => 0x3530D21D#32
  | 59 => 0xB53CCA00#32
  | 60 => 0x354A0FF9#32
  | 61 => 0xB558D5BB#32
  | 62 => 0x35695670#32
  | 63 => 0xB57BD8F1#32
  | 64 => 0x3588594C#32
  | 65 => 0xB5942572#32
  | 66 => 0x35A19018#32
  | 67 => 0xB5B0E6EF#32
  | 68 => 0x35C28A3B#32
  | 69 => 0xB5D6F23A#32
  | 70 => 0x35EEB658#32
  | 71 => 0xB6054B76#32
  | 72 => 0x3615C529#32
  | 73 => 0xB6296767#32
  | 74 => 0x3641014B#32
  | 75 => 0xB65DA20C#32
  | 76 => 0x368056F2#32
  | 77 => 0xB695FBC4#32
  | 78 => 0x36B0ED61#32
  | 79 => 0xB6D29E9B#32
  | 80 => 0x36FFBDB2#32
  | 81 => 0xB692EE32#32
  | 82 => 0x391EBB1A#32
  | 83 => 0x3B12D0DF#32
  | 84 => 0x3CA0086D#32
  | 85 => 0x3DBAD58B#32
  | 86 => 0x3E6BB748#32
  | 87 => 0x3EA069FE#32
  | 88 => 0x3E6BB748#32
  | 89 => 0x3DBAD58B#32
  | 90 => 0x3CA0086D#32
  | 91 => 0x3B12D0DF#32
  | 92 => 0x391EBB1A#32
  | 93 => 0xB692EE32#32
  | 94 => 0x36FFBDB2#32
  | 95 => 0xB6D29E9B#32
  | 96 => 0x36B0ED61#32
  | 97 => 0xB695FBC4#32
  | 98 => 0x368056F2#32
  | 99 => 0xB65DA20C#32
  | 100 => 0x3641014B#32
  | 101 => 0xB6296767#32
  | 102 => 0x3615C529#32
  | 103 => 0xB6054B76#32
  | 104 => 0x35EEB658#32
  | 105 => 0xB5D6F23A#32
  | 106 => 0x35C28A3B#32
  | 107 => 0xB5B0E6EF#32
  | 108 => 0x35A19018#32
  | 109 => 0xB5942572#32
  | 110 => 0x3588594C#32
  | 111 => 0xB57BD8F1#32
  | 112 => 0x35695670#32
  | 113 => 0xB558D5BB#32
  | 114 => 0x354A0FF9#32
  | 115 => 0xB53CCA00#32
  | 116 => 0x3530D21D#32
  | 117 => 0xB525FE56#32
  | 118 => 0x351C2B08#32
  | 119 => 0xB51339CD#32
  | 120 => 0x350B1097#32
  | 121 => 0xB50398F7#32
  | 122 => 0x34F97F13#32
  | 123 => 0xB4ECE6F7#32
  | 124 => 0x34E14C49#32
  | 125 => 0xB4D69568#32
  | 126 => 0x34CCABDA#32
  | 127 => 0xB4C37BD6#32
  | _ => 0#32

noncomputable abbrev lit0t0_175 (i : Nat) : BitVec 32 := match i % 128 with
  | 0 => 0x34BAF3E5#32
  | 1 => 0xB4B30492#32
  | 2 => 0x34ABA023#32
  | 3 => 0xB4A4BA5F#32
  | 4 => 0x349E485F#32
  | 5 => 0xB4984061#32
  | 6 => 0x349299A5#32
  | 7 => 0xB48D4C4D#32
  | 8 => 0x34885143#32
  | 9 => 0xB483A221#32
  | 10 => 0x347E723F#32
  | 11 => 0xB4762200#32
  | 12 => 0x346E49FF#32
  | 13 => 0xB466E193#32
  | 14 => 0x345FE0DA#32
  | 15 => 0xB45940A1#32
  | 16 => 0x3452FA51#32
  | 17 => 0xB44D07E6#32
  | 18 => 0x344763DA#32
  | 19 => 0xB4420919#32
  | 20 => 0x343CF2FA#32
  | 21 => 0xB4381D32#32
  | 22 => 0x343383CC#32
  | 23 => 0xB42F2322#32
  | 24 => 0x342AF7D2#32
  | 25 => 0xB426FEBD#32
  | 26 => 0x342334FF#32
  | 27 => 0xB41F97EA#32
  | 28 => 0x341C2500#32
  | 29 => 0xB418D9F0#32
  | 30 => 0x3415B495#32
  | 31 => 0xB412B2ED#32
  | 32 => 0x340FD31A#32
  | 33 => 0xB40D1360#32
  | 34 => 0x340A721F#32
  | 35 => 0xB407EDD1#32
  | 36 => 0x3405850C#32
  | 37 => 0xB403367C#32
  | 38 => 0x340100E3#32
  | 39 => 0xB3FDC62E#32
  | 40 => 0x33F9B800#32
  | 41 => 0xB3F5D532#32
  | 42 => 0x33F21BD6#32
  | 43 => 0xB3EE8A1F#32
  | 44 => 0x33EB1E5A#32
  | 45 => 0xB3E7D6EF#32
  | 46 => 0x33E4B25D#32
  | 47 => 0xB3E1AF3D#32
  | 48 => 0x33DECC38#32
  | 49 => 0xB3DC0810#32
  | 50 => 0x33D96196#32
  | 51 => 0xB3D6D7AE#32
  | 52 => 0x33D4694B#32
  | 53 => 0xB3D21572#32
  | 54 => 0x33CFDB34#32
  | 55 => 0xB3CDB9B1#32
  | 56 => 0x33CBB015#32
  | 57 => 0xB3C9BD97#32
  | 58 => 0x33C7E17D#32
  | 59 => 0xB3C61B15#32
  | 60 => 0x33C469B8#32
  | 61 => 0xB3C2CCC7#32
  | 62 => 0x33C143B0#32
  | 63 => 0xB3BFCDE6#32
  | 64 => 0x33BE6AE7#32
  | 65 => 0xB3BD1A36#32
  | 66 => 0x33BBDB61#32
  | 67 => 0xB3BAADFB#32
  | 68 => 0x33B9919E#32
  | 69 => 0xB3B885EC#32
  | 70 => 0x33B78A8A#32
  | 71 => 0xB3B69F28#32
  | 72 => 0x33B5C377#32
  | 73 => 0xB3B4F732#32
  | 74 => 0x33B43A15#32
  | 75 => 0xB3B38BE5#32
  | 76 => 0x33B2EC6A#32
  | 77 => 0xB3B25B72#32
  | 78 => 0x33B1D8CF#32
  | 79 => 0xB3B16459#32
  | 80 => 0x33B0FDEA#32
  | 81 => 0xB3B0A563#32
  | 82 => 0x33B05AA9#32
  | 83 => 0xB3B01DA5#32
  | 84 => 0x33AFEE43#32
  | 85 => 0xB3AFCC75#32
  | 86 => 0x33AFB831#32
  | 87 => 0xB3AFB170#32
  | 88 => 0x33AFB831#32
  | 89 => 0xB3AFCC75#32
  | 90 => 0x33AFEE43#32
  | 91 => 0xB3B01DA5#32
  | 92 => 0x33B05AA9#32
  | 93 => 0xB3B0A563#32
  | 94 => 0x33B0FDEA#32
  | 95 => 0xB3B16459#32
  | 96 => 0x33B1D8CF#32
  | 97 => 0xB3B25B72#32
  | 98 => 0x33B2EC6A#32
  | 99 => 0xB3B38BE5#32
  | 100 => 0x33B43A15#32
  | 101 => 0xB3B4F732#32
  | 102 => 0x33B5C377#32
  | 103 => 0xB3B69F28#32
  | 104 => 0x33B78A8A#32
  | 105 => 0xB3B885EC#32
  | 106 => 0x33B9919E#32
  | 107 => 0xB3BAADFB#32
  | 108 => 0x33BBDB61#32
  | 109 => 0xB3BD1A36#32
  | 110 => 0x33BE6AE7#32
  | 111 => 0xB3BFCDE6#32
  | 112 => 0x33C143B0#32
  | 113 => 0xB3C2CCC7#32
  | 114 => 0x33C469B8#32
  | 115 => 0xB3C61B15#32
  | 116 => 0x33C7E17D#32
  | 117 => 0xB3C9BD97#32
  | 118 => 0x33CBB015#32
  | 119 => 0xB3CDB9B1#32
  | 120 => 0x33CFDB34#32
  | 121 => 0xB3D21572#32
  | 122 => 0x33D4694B#32
  | 123 => 0xB3D6D7AE#32
  | 124 => 0x33D96196#32
  | 125 => 0xB3DC0810#32
  | 126 => 0x33DECC38#32
  | 127 => 0xB3E1AF3D#32
  | _ => 0#32

noncomputable abbrev lit0t0_176 (i : Nat) : BitVec 32 := match i % 128 with
  | 0 => 0xB3E1AF3D#32
  | 1 => 0x33E4B25D#32
  | 2 => 0xB3E7D6EF#32
  | 3 => 0x33EB1E5A#32
  | 4 => 0xB3EE8A1F#32
  | 5 => 0x33F21BD6#32
  | 6 => 0xB3F5D532#32
  | 7 => 0x33F9B800#32
  | 8 => 0xB3FDC62E#32
  | 9 => 0x340100E3#32
  | 10 => 0xB403367C#32
  | 11 => 0x3405850C#32
  | 12 => 0xB407EDD1#32
  | 13 => 0x340A721F#32
  | 14 => 0xB40D1360#32
  | 15 => 0x340FD31A#32
  | 16 => 0xB412B2ED#32
  | 17 => 0x3415B495#32
  | 18 => 0xB418D9F0#32
  | 19 => 0x341C2500#32
  | 20 => 0xB41F97EA#32
  | 21 => 0x342334FF#32
  | 22 => 0xB426FEBD#32
  | 23 => 0x342AF7D2#32
  | 24 => 0xB42F2322#32
  | 25 => 0x343383CC#32
  | 26 => 0xB4381D32#32
  | 27 => 0x343CF2FA#32
  | 28 => 0xB4420919#32
  | 29 => 0x344763DA#32
  | 30 => 0xB44D07E6#32
  | 31 => 0x3452FA51#32
  | 32 => 0xB45940A1#32
  | 33 => 0x345FE0DA#32
  | 34 => 0xB466E193#32
  | 35 => 0x346E49FF#32
  | 36 => 0xB4762200#32
  | 37 => 0x347E723F#32
  | 38 => 0xB483A221#32
  | 39 => 0x34885143#32
  | 40 => 0xB48D4C4D#32
  | 41 => 0x349299A5#32
  | 42 => 0xB4984061#32
  | 43 => 0x349E485F#32
  | 44 => 0xB4A4BA5F#32
  | 45 => 0x34ABA023#32
  | 46 => 0xB4B30492#32
  | 47 => 0x34BAF3E5#32
  | 48 => 0xB4C37BD6#32
  | 49 => 0x34CCABDA#32
  | 50 => 0xB4D69568#32
  | 51 => 0x34E14C49#32
  | 52 => 0xB4ECE6F7#32
  | 53 => 0x34F97F13#32
  | 54 => 0xB50398F7#32
  | 55 => 0x350B1097#32
  | 56 => 0xB51339CD#32
  | 57 => 0x351C2B08#32
  | 58 => 0xB525FE56#32
  | 59 => 0x3530D21D#32
  | 60 => 0xB53CCA00#32
  | 61 => 0x354A0FF9#32
  | 62 => 0xB558D5BB#32
  | 63 => 0x35695670#32
  | 64 => 0xB57BD8F1#32
  | 65 => 0x3588594C#32
  | 66 => 0xB5942572#32
  | 67 => 0x35A19018#32
  | 68 => 0xB5B0E6EF#32
  | 69 => 0x35C28A3B#32
  | 70 => 0xB5D6F23A#32
  | 71 => 0x35EEB658#32
  | 72 => 0xB6054B76#32
  | 73 => 0x3615C529#32
  | 74 => 0xB6296767#32
  | 75 => 0x3641014B#32
  | 76 => 0xB65DA20C#32
  | 77 => 0x368056F2#32
  | 78 => 0xB695FBC4#32
  | 79 => 0x36B0ED61#32
  | 80 => 0xB6D29E9B#32
  | 81 => 0x36FFBDB2#32
  | 82 => 0xB692EE32#32
  | 83 => 0x391EBB1A#32
  | 84 => 0x3B12D0DF#32
  | 85 => 0x3CA0086D#32
  | 86 => 0x3DBAD58B#32
  | 87 => 0x3E6BB748#32
  | 88 => 0x3EA069FE#32
  | 89 => 0x3E6BB748#32
  | 90 => 0x3DBAD58B#32
  | 91 => 0x3CA0086D#32
  | 92 => 0x3B12D0DF#32
  | 93 => 0x391EBB1A#32
  | 94 => 0xB692EE32#32
  | 95 => 0x36FFBDB2#32
  | 96 => 0xB6D29E9B#32
  | 97 => 0x36B0ED61#32
  | 98 => 0xB695FBC4#32
  | 99 => 0x368056F2#32
  | 100 => 0xB65DA20C#32
  | 101 => 0x3641014B#32
  | 102 => 0xB6296767#32
  | 103 => 0x3615C529#32
  | 104 => 0xB6054B76#32
  | 105 => 0x35EEB658#32
  | 106 => 0xB5D6F23A#32
  | 107 => 0x35C28A3B#32
  | 108 => 0xB5B0E6EF#32
  | 109 => 0x35A19018#32
  | 110 => 0xB5942572#32
  | 111 => 0x3588594C#32
  | 112 => 0xB57BD8F1#32
  | 113 => 0x35695670#32
  | 114 => 0xB558D5BB#32
  | 115 => 0x354A0FF9#32
  | 116 => 0xB53CCA00#32
  | 117 => 0x3530D21D#32
  | 118 => 0xB525FE56#32
  | 119 => 0x351C2B08#32
  | 120 => 0xB51339CD#32
  | 121 => 0x350B1097#32
  | 122 => 0xB50398F7#32
  | 123 => 0x34F97F13#32
  | 124 => 0xB4ECE6F7#32
  | 125 => 0x34E14C49#32
  | 126 => 0xB4D69568#32
  | 127 => 0x34CCABDA#32
  | _ => 0#32

noncomputable abbrev lit0t0_177 (i : Nat) : BitVec 32 := match i % 128 with
  | 0 => 0xB4C37BD6#32
  | 1 => 0x34BAF3E5#32
  | 2 => 0xB4B30492#32
  | 3 => 0x34ABA023#32
  | 4 => 0xB4A4BA5F#32
  | 5 => 0x349E485F#32
  | 6 => 0xB4984061#32
  | 7 => 0x349299A5#32
  | 8 => 0xB48D4C4D#32
  | 9 => 0x34885143#32
  | 10 => 0xB483A221#32
  | 11 => 0x347E723F#32
  | 12 => 0xB4762200#32
  | 13 => 0x346E49FF#32
  | 14 => 0xB466E193#32
  | 15 => 0x345FE0DA#32
  | 16 => 0xB45940A1#32
  | 17 => 0x3452FA51#32
  | 18 => 0xB44D07E6#32
  | 19 => 0x344763DA#32
  | 20 => 0xB4420919#32
  | 21 => 0x343CF2FA#32
  | 22 => 0xB4381D32#32
  | 23 => 0x343383CC#32
  | 24 => 0xB42F2322#32
  | 25 => 0x342AF7D2#32
  | 26 => 0xB426FEBD#32
  | 27 => 0x342334FF#32
  | 28 => 0xB41F97EA#32
  | 29 => 0x341C2500#32
  | 30 => 0xB418D9F0#32
  | 31 => 0x3415B495#32
  | 32 => 0xB412B2ED#32
  | 33 => 0x340FD31A#32
  | 34 => 0xB40D1360#32
  | 35 => 0x340A721F#32
  | 36 => 0xB407EDD1#32
  | 37 => 0x3405850C#32
  | 38 => 0xB403367C#32
  | 39 => 0x340100E3#32
  | 40 => 0xB3FDC62E#32
  | 41 => 0x33F9B800#32
  | 42 => 0xB3F5D532#32
  | 43 => 0x33F21BD6#32
  | 44 => 0xB3EE8A1F#32
  | 45 => 0x33EB1E5A#32
  | 46 => 0xB3E7D6EF#32
  | 47 => 0x33E4B25D#32
  | 48 => 0xB3E1AF3D#32
  | 49 => 0x33DECC38#32
  | 50 => 0xB3DC0810#32
  | 51 => 0x33D96196#32
  | 52 => 0xB3D6D7AE#32
  | 53 => 0x33D4694B#32
  | 54 => 0xB3D21572#32
  | 55 => 0x33CFDB34#32
  | 56 => 0xB3CDB9B1#32
  | 57 => 0x33CBB015#32
  | 58 => 0xB3C9BD97#32
  | 59 => 0x33C7E17D#32
  | 60 => 0xB3C61B15#32
  | 61 => 0x33C469B8#32
  | 62 => 0xB3C2CCC7#32
  | 63 => 0x33C143B0#32
  | 64 => 0xB3BFCDE6#32
  | 65 => 0x33BE6AE7#32
  | 66 => 0xB3BD1A36#32
  | 67 => 0x33BBDB61#32
  | 68 => 0xB3BAADFB#32
  | 69 => 0x33B9919E#32
  | 70 => 0xB3B885EC#32
  | 71 => 0x33B78A8A#32
  | 72 => 0xB3B69F28#32
  | 73 => 0x33B5C377#32
  | 74 => 0xB3B4F732#32
  | 75 => 0x33B43A15#32
  | 76 => 0xB3B38BE5#32
  | 77 => 0x33B2EC6A#32
  | 78 => 0xB3B25B72#32
  | 79 => 0x33B1D8CF#32
  | 80 => 0xB3B16459#32
  | 81 => 0x33B0FDEA#32
  | 82 => 0xB3B0A563#32
  | 83 => 0x33B05AA9#32
  | 84 => 0xB3B01DA5#32
  | 85 => 0x33AFEE43#32
  | 86 => 0xB3AFCC75#32
  | 87 => 0x33AFB831#32
  | 88 => 0xB3AFB170#32
  | 89 => 0x33AFB831#32
  | 90 => 0xB3AFCC75#32
  | 91 => 0x33AFEE43#32
  | 92 => 0xB3B01DA5#32
  | 93 => 0x33B05AA9#32
  | 94 => 0xB3B0A563#32
  | 95 => 0x33B0FDEA#32
  | 96 => 0xB3B16459#32
  | 97 => 0x33B1D8CF#32
  | 98 => 0xB3B25B72#32
  | 99 => 0x33B2EC6A#32
  | 100 => 0xB3B38BE5#32
  | 101 => 0x33B43A15#32
  | 102 => 0xB3B4F732#32
  | 103 => 0x33B5C377#32
  | 104 => 0xB3B69F28#32
  | 105 => 0x33B78A8A#32
  | 106 => 0xB3B885EC#32
  | 107 => 0x33B9919E#32
  | 108 => 0xB3BAADFB#32
  | 109 => 0x33BBDB61#32
  | 110 => 0xB3BD1A36#32
  | 111 => 0x33BE6AE7#32
  | 112 => 0xB3BFCDE6#32
  | 113 => 0x33C143B0#32
  | 114 => 0xB3C2CCC7#32
  | 115 => 0x33C469B8#32
  | 116 => 0xB3C61B15#32
  | 117 => 0x33C7E17D#32
  | 118 => 0xB3C9BD97#32
  | 119 => 0x33CBB015#32
  | 120 => 0xB3CDB9B1#32
  | 121 => 0x33CFDB34#32
  | 122 => 0xB3D21572#32
  | 123 => 0x33D4694B#32
  | 124 => 0xB3D6D7AE#32
  | 125 => 0x33D96196#32
  | 126 => 0xB3DC0810#32
  | 127 => 0x33DECC38#32
  | _ => 0#32

noncomputable abbrev lit0t0_178 (i : Nat) : BitVec 32 := match i % 128 with
  | 0 => 0x33DECC38#32
  | 1 => 0xB3E1AF3D#32
  | 2 => 0x33E4B25D#32
  | 3 => 0xB3E7D6EF#32
  | 4 => 0x33EB1E5A#32
  | 5 => 0xB3EE8A1F#32
  | 6 => 0x33F21BD6#32
  | 7 => 0xB3F5D532#32
  | 8 => 0x33F9B800#32
  | 9 => 0xB3FDC62E#32
  | 10 => 0x340100E3#32
  | 11 => 0xB403367C#32
  | 12 => 0x3405850C#32
  | 13 => 0xB407EDD1#32
  | 14 => 0x340A721F#32
  | 15 => 0xB40D1360#32
  | 16 => 0x340FD31A#32
  | 17 => 0xB412B2ED#32
  | 18 => 0x3415B495#32
  | 19 => 0xB418D9F0#32
  | 20 => 0x341C2500#32
  | 21 => 0xB41F97EA#32
  | 22 => 0x342334FF#32
  | 23 => 0xB426FEBD#32
  | 24 => 0x342AF7D2#32
  | 25 => 0xB42F2322#32
  | 26 => 0x343383CC#32
  | 27 => 0xB4381D32#32
  | 28 => 0x343CF2FA#32
  | 29 => 0xB4420919#32
  | 30 => 0x344763DA#32
  | 31 => 0xB44D07E6#32
  | 32 => 0x3452FA51#32
  | 33 => 0xB45940A1#32
  | 34 => 0x345FE0DA#32
  | 35 => 0xB466E193#32
  | 36 => 0x346E49FF#32
  | 37 => 0xB4762200#32
  | 38 => 0x347E723F#32
  | 39 => 0xB483A221#32
  | 40 => 0x34885143#32
  | 41 => 0xB48D4C4D#32
  | 42 => 0x349299A5#32
  | 43 => 0xB4984061#32
  | 44 => 0x349E485F#32
  | 45 => 0xB4A4BA5F#32
  | 46 => 0x34ABA023#32
  | 47 => 0xB4B30492#32
  | 48 => 0x34BAF3E5#32
  | 49 => 0xB4C37BD6#32
  | 50 => 0x34CCABDA#32
  | 51 => 0xB4D69568#32
  | 52 => 0x34E14C49#32
  | 53 => 0xB4ECE6F7#32
  | 54 => 0x34F97F13#32
  | 55 => 0xB50398F7#32
  | 56 => 0x350B1097#32
  | 57 => 0xB51339CD#32
  | 58 => 0x351C2B08#32
  | 59 => 0xB525FE56#32
  | 60 => 0x3530D21D#32
  | 61 => 0xB53CCA00#32
  | 62 => 0x354A0FF9#32
  | 63 => 0xB558D5BB#32
  | 64 => 0x35695670#32
  | 65 => 0xB57BD8F1#32
  | 66 => 0x3588594C#32
  | 67 => 0xB5942572#32
  | 68 => 0x35A19018#32
  | 69 => 0xB5B0E6EF#32
  | 70 => 0x35C28A3B#32
  | 71 => 0xB5D6F23A#32
  | 72 => 0x35EEB658#32
  | 73 => 0xB6054B76#32
  | 74 => 0x3615C529#32
  | 75 => 0xB6296767#32
  | 76 => 0x3641014B#32
  | 77 => 0xB65DA20C#32
  | 78 => 0x368056F2#32
  | 79 => 0xB695FBC4#32
  | 80 => 0x36B0ED61#32
  | 81 => 0xB6D29E9B#32
  | 82 => 0x36FFBDB2#32
  | 83 => 0xB692EE32#32
  | 84 => 0x391EBB1A#32
  | 85 => 0x3B12D0DF#32
  | 86 => 0x3CA0086D#32
  | 87 => 0x3DBAD58B#32
  | 88 => 0x3E6BB748#32
  | 89 => 0x3EA069FE#32
  | 90 => 0x3E6BB748#32
  | 91 => 0x3DBAD58B#32
  | 92 => 0x3CA0086D#32
  | 93 => 0x3B12D0DF#32
  | 94 => 0x391EBB1A#32
  | 95 => 0xB692EE32#32
  | 96 => 0x36FFBDB2#32
  | 97 => 0xB6D29E9B#32
  | 98 => 0x36B0ED61#32
  | 99 => 0xB695FBC4#32
  | 100 => 0x368056F2#32
  | 101 => 0xB65DA20C#32
  | 102 => 0x3641014B#32
  | 103 => 0xB6296767#32
  | 104 => 0x3615C529#32
  | 105 => 0xB6054B76#32
  | 106 => 0x35EEB658#32
  | 107 => 0xB5D6F23A#32
  | 108 => 0x35C28A3B#32
  | 109 => 0xB5B0E6EF#32
  | 110 => 0x35A19018#32
  | 111 => 0xB5942572#32
  | 112 => 0x3588594C#32
  | 113 => 0xB57BD8F1#32
  | 114 => 0x35695670#32
  | 115 => 0xB558D5BB#32
  | 116 => 0x354A0FF9#32
  | 117 => 0xB53CCA00#32
  | 118 => 0x3530D21D#32
  | 119 => 0xB525FE56#32
  | 120 => 0x351C2B08#32
  | 121 => 0xB51339CD#32
  | 122 => 0x350B1097#32
  | 123 => 0xB50398F7#32
  | 124 => 0x34F97F13#32
  | 125 => 0xB4ECE6F7#32
  | 126 => 0x34E14C49#32
  | 127 => 0xB4D69568#32
  | _ => 0#32

noncomputable abbrev lit0t0_179 (i : Nat) : BitVec 32 := match i % 128 with
  | 0 => 0x34CCABDA#32
  | 1 => 0xB4C37BD6#32
  | 2 => 0x34BAF3E5#32
  | 3 => 0xB4B30492#32
  | 4 => 0x34ABA023#32
  | 5 => 0xB4A4BA5F#32
  | 6 => 0x349E485F#32
  | 7 => 0xB4984061#32
  | 8 => 0x349299A5#32
  | 9 => 0xB48D4C4D#32
  | 10 => 0x34885143#32
  | 11 => 0xB483A221#32
  | 12 => 0x347E723F#32
  | 13 => 0xB4762200#32
  | 14 => 0x346E49FF#32
  | 15 => 0xB466E193#32
  | 16 => 0x345FE0DA#32
  | 17 => 0xB45940A1#32
  | 18 => 0x3452FA51#32
  | 19 => 0xB44D07E6#32
  | 20 => 0x344763DA#32
  | 21 => 0xB4420919#32
  | 22 => 0x343CF2FA#32
  | 23 => 0xB4381D32#32
  | 24 => 0x343383CC#32
  | 25 => 0xB42F2322#32
  | 26 => 0x342AF7D2#32
  | 27 => 0xB426FEBD#32
  | 28 => 0x342334FF#32
  | 29 => 0xB41F97EA#32
  | 30 => 0x341C2500#32
  | 31 => 0xB418D9F0#32
  | 32 => 0x3415B495#32
  | 33 => 0xB412B2ED#32
  | 34 => 0x340FD31A#32
  | 35 => 0xB40D1360#32
  | 36 => 0x340A721F#32
  | 37 => 0xB407EDD1#32
  | 38 => 0x3405850C#32
  | 39 => 0xB403367C#32
  | 40 => 0x340100E3#32
  | 41 => 0xB3FDC62E#32
  | 42 => 0x33F9B800#32
  | 43 => 0xB3F5D532#32
  | 44 => 0x33F21BD6#32
  | 45 => 0xB3EE8A1F#32
  | 46 => 0x33EB1E5A#32
  | 47 => 0xB3E7D6EF#32
  | 48 => 0x33E4B25D#32
  | 49 => 0xB3E1AF3D#32
  | 50 => 0x33DECC38#32
  | 51 => 0xB3DC0810#32
  | 52 => 0x33D96196#32
  | 53 => 0xB3D6D7AE#32
  | 54 => 0x33D4694B#32
  | 55 => 0xB3D21572#32
  | 56 => 0x33CFDB34#32
  | 57 => 0xB3CDB9B1#32
  | 58 => 0x33CBB015#32
  | 59 => 0xB3C9BD97#32
  | 60 => 0x33C7E17D#32
  | 61 => 0xB3C61B15#32
  | 62 => 0x33C469B8#32
  | 63 => 0xB3C2CCC7#32
  | 64 => 0x33C143B0#32
  | 65 => 0xB3BFCDE6#32
  | 66 => 0x33BE6AE7#32
  | 67 => 0xB3BD1A36#32
  | 68 => 0x33BBDB61#32
  | 69 => 0xB3BAADFB#32
  | 70 => 0x33B9919E#32
  | 71 => 0xB3B885EC#32
  | 72 => 0x33B78A8A#32
  | 73 => 0xB3B69F28#32
  | 74 => 0x33B5C377#32
  | 75 => 0xB3B4F732#32
  | 76 => 0x33B43A15#32
  | 77 => 0xB3B38BE5#32
  | 78 => 0x33B2EC6A#32
  | 79 => 0xB3B25B72#32
  | 80 => 0x33B1D8CF#32
  | 81 => 0xB3B16459#32
  | 82 => 0x33B0FDEA#32
  | 83 => 0xB3B0A563#32
  | 84 => 0x33B05AA9#32
  | 85 => 0xB3B01DA5#32
  | 86 => 0x33AFEE43#32
  | 87 => 0xB3AFCC75#32
  | 88 => 0x33AFB831#32
  | 89 => 0xB3AFB170#32
  | 90 => 0x33AFB831#32
  | 91 => 0xB3AFCC75#32
  | 92 => 0x33AFEE43#32
  | 93 => 0xB3B01DA5#32
  | 94 => 0x33B05AA9#32
  | 95 => 0xB3B0A563#32
  | 96 => 0x33B0FDEA#32
  | 97 => 0xB3B16459#32
  | 98 => 0x33B1D8CF#32
  | 99 => 0xB3B25B72#32
  | 100 => 0x33B2EC6A#32
  | 101 => 0xB3B38BE5#32
  | 102 => 0x33B43A15#32
  | 103 => 0xB3B4F732#32
  | 104 => 0x33B5C377#32
  | 105 => 0xB3B69F28#32
  | 106 => 0x33B78A8A#32
  | 107 => 0xB3B885EC#32
  | 108 => 0x33B9919E#32
  | 109 => 0xB3BAADFB#32
  | 110 => 0x33BBDB61#32
  | 111 => 0xB3BD1A36#32
  | 112 => 0x33BE6AE7#32
  | 113 => 0xB3BFCDE6#32
  | 114 => 0x33C143B0#32
  | 115 => 0xB3C2CCC7#32
  | 116 => 0x33C469B8#32
  | 117 => 0xB3C61B15#32
  | 118 => 0x33C7E17D#32
  | 119 => 0xB3C9BD97#32
  | 120 => 0x33CBB015#32
  | 121 => 0xB3CDB9B1#32
  | 122 => 0x33CFDB34#32
  | 123 => 0xB3D21572#32
  | 124 => 0x33D4694B#32
  | 125 => 0xB3D6D7AE#32
  | 126 => 0x33D96196#32
  | 127 => 0xB3DC0810#32
  | _ => 0#32

noncomputable abbrev lit0t0_180 (i : Nat) : BitVec 32 := match i % 128 with
  | 0 => 0xB3DC0810#32
  | 1 => 0x33DECC38#32
  | 2 => 0xB3E1AF3D#32
  | 3 => 0x33E4B25D#32
  | 4 => 0xB3E7D6EF#32
  | 5 => 0x33EB1E5A#32
  | 6 => 0xB3EE8A1F#32
  | 7 => 0x33F21BD6#32
  | 8 => 0xB3F5D532#32
  | 9 => 0x33F9B800#32
  | 10 => 0xB3FDC62E#32
  | 11 => 0x340100E3#32
  | 12 => 0xB403367C#32
  | 13 => 0x3405850C#32
  | 14 => 0xB407EDD1#32
  | 15 => 0x340A721F#32
  | 16 => 0xB40D1360#32
  | 17 => 0x340FD31A#32
  | 18 => 0xB412B2ED#32
  | 19 => 0x3415B495#32
  | 20 => 0xB418D9F0#32
  | 21 => 0x341C2500#32
  | 22 => 0xB41F97EA#32
  | 23 => 0x342334FF#32
  | 24 => 0xB426FEBD#32
  | 25 => 0x342AF7D2#32
  | 26 => 0xB42F2322#32
  | 27 => 0x343383CC#32
  | 28 => 0xB4381D32#32
  | 29 => 0x343CF2FA#32
  | 30 => 0xB4420919#32
  | 31 => 0x344763DA#32
  | 32 => 0xB44D07E6#32
  | 33 => 0x3452FA51#32
  | 34 => 0xB45940A1#32
  | 35 => 0x345FE0DA#32
  | 36 => 0xB466E193#32
  | 37 => 0x346E49FF#32
  | 38 => 0xB4762200#32
  | 39 => 0x347E723F#32
  | 40 => 0xB483A221#32
  | 41 => 0x34885143#32
  | 42 => 0xB48D4C4D#32
  | 43 => 0x349299A5#32
  | 44 => 0xB4984061#32
  | 45 => 0x349E485F#32
  | 46 => 0xB4A4BA5F#32
  | 47 => 0x34ABA023#32
  | 48 => 0xB4B30492#32
  | 49 => 0x34BAF3E5#32
  | 50 => 0xB4C37BD6#32
  | 51 => 0x34CCABDA#32
  | 52 => 0xB4D69568#32
  | 53 => 0x34E14C49#32
  | 54 => 0xB4ECE6F7#32
  | 55 => 0x34F97F13#32
  | 56 => 0xB50398F7#32
  | 57 => 0x350B1097#32
  | 58 => 0xB51339CD#32
  | 59 => 0x351C2B08#32
  | 60 => 0xB525FE56#32
  | 61 => 0x3530D21D#32
  | 62 => 0xB53CCA00#32
  | 63 => 0x354A0FF9#32
  | 64 => 0xB558D5BB#32
  | 65 => 0x35695670#32
  | 66 => 0xB57BD8F1#32
  | 67 => 0x3588594C#32
  | 68 => 0xB5942572#32
  | 69 => 0x35A19018#32
  | 70 => 0xB5B0E6EF#32
  | 71 => 0x35C28A3B#32
  | 72 => 0xB5D6F23A#32
  | 73 => 0x35EEB658#32
  | 74 => 0xB6054B76#32
  | 75 => 0x3615C529#32
  | 76 => 0xB6296767#32
  | 77 => 0x3641014B#32
  | 78 => 0xB65DA20C#32
  | 79 => 0x368056F2#32
  | 80 => 0xB695FBC4#32
  | 81 => 0x36B0ED61#32
  | 82 => 0xB6D29E9B#32
  | 83 => 0x36FFBDB2#32
  | 84 => 0xB692EE32#32
  | 85 => 0x391EBB1A#32
  | 86 => 0x3B12D0DF#32
  | 87 => 0x3CA0086D#32
  | 88 => 0x3DBAD58B#32
  | 89 => 0x3E6BB748#32
  | 90 => 0x3EA069FE#32
  | 91 => 0x3E6BB748#32
  | 92 => 0x3DBAD58B#32
  | 93 => 0x3CA0086D#32
  | 94 => 0x3B12D0DF#32
  | 95 => 0x391EBB1A#32
  | 96 => 0xB692EE32#32
  | 97 => 0x36FFBDB2#32
  | 98 => 0xB6D29E9B#32
  | 99 => 0x36B0ED61#32
  | 100 => 0xB695FBC4#32
  | 101 => 0x368056F2#32
  | 102 => 0xB65DA20C#32
  | 103 => 0x3641014B#32
  | 104 => 0xB6296767#32
  | 105 => 0x3615C529#32
  | 106 => 0xB6054B76#32
  | 107 => 0x35EEB658#32
  | 108 => 0xB5D6F23A#32
  | 109 => 0x35C28A3B#32
  | 110 => 0xB5B0E6EF#32
  | 111 => 0x35A19018#32
  | 112 => 0xB5942572#32
  | 113 => 0x3588594C#32
  | 114 => 0xB57BD8F1#32
  | 115 => 0x35695670#32
  | 116 => 0xB558D5BB#32
  | 117 => 0x354A0FF9#32
  | 118 => 0xB53CCA00#32
  | 119 => 0x3530D21D#32
  | 120 => 0xB525FE56#32
  | 121 => 0x351C2B08#32
  | 122 => 0xB51339CD#32
  | 123 => 0x350B1097#32
  | 124 => 0xB50398F7#32
  | 125 => 0x34F97F13#32
  | 126 => 0xB4ECE6F7#32
  | 127 => 0x34E14C49#32
  | _ => 0#32

noncomputable abbrev lit0t0_181 (i : Nat) : BitVec 32 := match i % 128 with
  | 0 => 0xB4D69568#32
  | 1 => 0x34CCABDA#32
  | 2 => 0xB4C37BD6#32
  | 3 => 0x34BAF3E5#32
  | 4 => 0xB4B30492#32
  | 5 => 0x34ABA023#32
  | 6 => 0xB4A4BA5F#32
  | 7 => 0x349E485F#32
  | 8 => 0xB4984061#32
  | 9 => 0x349299A5#32
  | 10 => 0xB48D4C4D#32
  | 11 => 0x34885143#32
  | 12 => 0xB483A221#32
  | 13 => 0x347E723F#32
  | 14 => 0xB4762200#32
  | 15 => 0x346E49FF#32
  | 16 => 0xB466E193#32
  | 17 => 0x345FE0DA#32
  | 18 => 0xB45940A1#32
  | 19 => 0x3452FA51#32
  | 20 => 0xB44D07E6#32
  | 21 => 0x344763DA#32
  | 22 => 0xB4420919#32
  | 23 => 0x343CF2FA#32
  | 24 => 0xB4381D32#32
  | 25 => 0x343383CC#32
  | 26 => 0xB42F2322#32
  | 27 => 0x342AF7D2#32
  | 28 => 0xB426FEBD#32
  | 29 => 0x342334FF#32
  | 30 => 0xB41F97EA#32
  | 31 => 0x341C2500#32
  | 32 => 0xB418D9F0#32
  | 33 => 0x3415B495#32
  | 34 => 0xB412B2ED#32
  | 35 => 0x340FD31A#32
  | 36 => 0xB40D1360#32
  | 37 => 0x340A721F#32
  | 38 => 0xB407EDD1#32
  | 39 => 0x3405850C#32
  | 40 => 0xB403367C#32
  | 41 => 0x340100E3#32
  | 42 => 0xB3FDC62E#32
  | 43 => 0x33F9B800#32
  | 44 => 0xB3F5D532#32
  | 45 => 0x33F21BD6#32
  | 46 => 0xB3EE8A1F#32
  | 47 => 0x33EB1E5A#32
  | 48 => 0xB3E7D6EF#32
  | 49 => 0x33E4B25D#32
  | 50 => 0xB3E1AF3D#32
  | 51 => 0x33DECC38#32
  | 52 => 0xB3DC0810#32
  | 53 => 0x33D96196#32
  | 54 => 0xB3D6D7AE#32
  | 55 => 0x33D4694B#32
  | 56 => 0xB3D21572#32
  | 57 => 0x33CFDB34#32
  | 58 => 0xB3CDB9B1#32
  | 59 => 0x33CBB015#32
  | 60 => 0xB3C9BD97#32
  | 61 => 0x33C7E17D#32
  | 62 => 0xB3C61B15#32
  | 63 => 0x33C469B8#32
  | 64 => 0xB3C2CCC7#32
  | 65 => 0x33C143B0#32
  | 66 => 0xB3BFCDE6#32
  | 67 => 0x33BE6AE7#32
  | 68 => 0xB3BD1A36#32
  | 69 => 0x33BBDB61#32
  | 70 => 0xB3BAADFB#32
  | 71 => 0x33B9919E#32
  | 72 => 0xB3B885EC#32
  | 73 => 0x33B78A8A#32
  | 74 => 0xB3B69F28#32
  | 75 => 0x33B5C377#32
  | 76 => 0xB3B4F732#32
  | 77 => 0x33B43A15#32
  | 78 => 0xB3B38BE5#32
  | 79 => 0x33B2EC6A#32
  | 80 => 0xB3B25B72#32
  | 81 => 0x33B1D8CF#32
  | 82 => 0xB3B16459#32
  | 83 => 0x33B0FDEA#32
  | 84 => 0xB3B0A563#32
  | 85 => 0x33B05AA9#32
  | 86 => 0xB3B01DA5#32
  | 87 => 0x33AFEE43#32
  | 88 => 0xB3AFCC75#32
  | 89 => 0x33AFB831#32
  | 90 => 0xB3AFB170#32
  | 91 => 0x33AFB831#32
  | 92 => 0xB3AFCC75#32
  | 93 => 0x33AFEE43#32
  | 94 => 0xB3B01DA5#32
  | 95 => 0x33B05AA9#32
  | 96 => 0xB3B0A563#32
  | 97 => 0x33B0FDEA#32
  | 98 => 0xB3B16459#32
  | 99 => 0x33B1D8CF#32
  | 100 => 0xB3B25B72#32
  | 101 => 0x33B2EC6A#32
  | 102 => 0xB3B38BE5#32
  | 103 => 0x33B43A15#32
  | 104 => 0xB3B4F732#32
  | 105 => 0x33B5C377#32
  | 106 => 0xB3B69F28#32
  | 107 => 0x33B78A8A#32
  | 108 => 0xB3B885EC#32
  | 109 => 0x33B9919E#32
  | 110 => 0xB3BAADFB#32
  | 111 => 0x33BBDB61#32
  | 112 => 0xB3BD1A36#32
  | 113 => 0x33BE6AE7#32
  | 114 => 0xB3BFCDE6#32
  | 115 => 0x33C143B0#32
  | 116 => 0xB3C2CCC7#32
  | 117 => 0x33C469B8#32
  | 118 => 0xB3C61B15#32
  | 119 => 0x33C7E17D#32
  | 120 => 0xB3C9BD97#32
  | 121 => 0x33CBB015#32
  | 122 => 0xB3CDB9B1#32
  | 123 => 0x33CFDB34#32
  | 124 => 0xB3D21572#32
  | 125 => 0x33D4694B#32
  | 126 => 0xB3D6D7AE#32
  | 127 => 0x33D96196#32
  | _ => 0#32

noncomputable abbrev lit0t0_182 (i : Nat) : BitVec 32 := match i % 128 with
  | 0 => 0x33D96196#32
  | 1 => 0xB3DC0810#32
  | 2 => 0x33DECC38#32
  | 3 => 0xB3E1AF3D#32
  | 4 => 0x33E4B25D#32
  | 5 => 0xB3E7D6EF#32
  | 6 => 0x33EB1E5A#32
  | 7 => 0xB3EE8A1F#32
  | 8 => 0x33F21BD6#32
  | 9 => 0xB3F5D532#32
  | 10 => 0x33F9B800#32
  | 11 => 0xB3FDC62E#32
  | 12 => 0x340100E3#32
  | 13 => 0xB403367C#32
  | 14 => 0x3405850C#32
  | 15 => 0xB407EDD1#32
  | 16 => 0x340A721F#32
  | 17 => 0xB40D1360#32
  | 18 => 0x340FD31A#32
  | 19 => 0xB412B2ED#32
  | 20 => 0x3415B495#32
  | 21 => 0xB418D9F0#32
  | 22 => 0x341C2500#32
  | 23 => 0xB41F97EA#32
  | 24 => 0x342334FF#32
  | 25 => 0xB426FEBD#32
  | 26 => 0x342AF7D2#32
  | 27 => 0xB42F2322#32
  | 28 => 0x343383CC#32
  | 29 => 0xB4381D32#32
  | 30 => 0x343CF2FA#32
  | 31 => 0xB4420919#32
  | 32 => 0x344763DA#32
  | 33 => 0xB44D07E6#32
  | 34 => 0x3452FA51#32
  | 35 => 0xB45940A1#32
  | 36 => 0x345FE0DA#32
  | 37 => 0xB466E193#32
  | 38 => 0x346E49FF#32
  | 39 => 0xB4762200#32
  | 40 => 0x347E723F#32
  | 41 => 0xB483A221#32
  | 42 => 0x34885143#32
  | 43 => 0xB48D4C4D#32
  | 44 => 0x349299A5#32
  | 45 => 0xB4984061#32
  | 46 => 0x349E485F#32
  | 47 => 0xB4A4BA5F#32
  | 48 => 0x34ABA023#32
  | 49 => 0xB4B30492#32
  | 50 => 0x34BAF3E5#32
  | 51 => 0xB4C37BD6#32
  | 52 => 0x34CCABDA#32
  | 53 => 0xB4D69568#32
  | 54 => 0x34E14C49#32
  | 55 => 0xB4ECE6F7#32
  | 56 => 0x34F97F13#32
  | 57 => 0xB50398F7#32
  | 58 => 0x350B1097#32
  | 59 => 0xB51339CD#32
  | 60 => 0x351C2B08#32
  | 61 => 0xB525FE56#32
  | 62 => 0x3530D21D#32
  | 63 => 0xB53CCA00#32
  | 64 => 0x354A0FF9#32
  | 65 => 0xB558D5BB#32
  | 66 => 0x35695670#32
  | 67 => 0xB57BD8F1#32
  | 68 => 0x3588594C#32
  | 69 => 0xB5942572#32
  | 70 => 0x35A19018#32
  | 71 => 0xB5B0E6EF#32
  | 72 => 0x35C28A3B#32
  | 73 => 0xB5D6F23A#32
  | 74 => 0x35EEB658#32
  | 75 => 0xB6054B76#32
  | 76 => 0x3615C529#32
  | 77 => 0xB6296767#32
  | 78 => 0x3641014B#32
  | 79 => 0xB65DA20C#32
  | 80 => 0x368056F2#32
  | 81 => 0xB695FBC4#32
  | 82 => 0x36B0ED61#32
  | 83 => 0xB6D29E9B#32
  | 84 => 0x36FFBDB2#32
  | 85 => 0xB692EE32#32
  | 86 => 0x391EBB1A#32
  | 87 => 0x3B12D0DF#32
  | 88 => 0x3CA0086D#32
  | 89 => 0x3DBAD58B#32
  | 90 => 0x3E6BB748#32
  | 91 => 0x3EA069FE#32
  | 92 => 0x3E6BB748#32
  | 93 => 0x3DBAD58B#32
  | 94 => 0x3CA0086D#32
  | 95 => 0x3B12D0DF#32
  | 96 => 0x391EBB1A#32
  | 97 => 0xB692EE32#32
  | 98 => 0x36FFBDB2#32
  | 99 => 0xB6D29E9B#32
  | 100 => 0x36B0ED61#32
  | 101 => 0xB695FBC4#32
  | 102 => 0x368056F2#32
  | 103 => 0xB65DA20C#32
  | 104 => 0x3641014B#32
  | 105 => 0xB6296767#32
  | 106 => 0x3615C529#32
  | 107 => 0xB6054B76#32
  | 108 => 0x35EEB658#32
  | 109 => 0xB5D6F23A#32
  | 110 => 0x35C28A3B#32
  | 111 => 0xB5B0E6EF#32
  | 112 => 0x35A19018#32
  | 113 => 0xB5942572#32
  | 114 => 0x3588594C#32
  | 115 => 0xB57BD8F1#32
  | 116 => 0x35695670#32
  | 117 => 0xB558D5BB#32
  | 118 => 0x354A0FF9#32
  | 119 => 0xB53CCA00#32
  | 120 => 0x3530D21D#32
  | 121 => 0xB525FE56#32
  | 122 => 0x351C2B08#32
  | 123 => 0xB51339CD#32
  | 124 => 0x350B1097#32
  | 125 => 0xB50398F7#32
  | 126 => 0x34F97F13#32
  | 127 => 0xB4ECE6F7#32
  | _ => 0#32

noncomputable abbrev lit0t0_183 (i : Nat) : BitVec 32 := match i % 128 with
  | 0 => 0x34E14C49#32
  | 1 => 0xB4D69568#32
  | 2 => 0x34CCABDA#32
  | 3 => 0xB4C37BD6#32
  | 4 => 0x34BAF3E5#32
  | 5 => 0xB4B30492#32
  | 6 => 0x34ABA023#32
  | 7 => 0xB4A4BA5F#32
  | 8 => 0x349E485F#32
  | 9 => 0xB4984061#32
  | 10 => 0x349299A5#32
  | 11 => 0xB48D4C4D#32
  | 12 => 0x34885143#32
  | 13 => 0xB483A221#32
  | 14 => 0x347E723F#32
  | 15 => 0xB4762200#32
  | 16 => 0x346E49FF#32
  | 17 => 0xB466E193#32
  | 18 => 0x345FE0DA#32
  | 19 => 0xB45940A1#32
  | 20 => 0x3452FA51#32
  | 21 => 0xB44D07E6#32
  | 22 => 0x344763DA#32
  | 23 => 0xB4420919#32
  | 24 => 0x343CF2FA#32
  | 25 => 0xB4381D32#32
  | 26 => 0x343383CC#32
  | 27 => 0xB42F2322#32
  | 28 => 0x342AF7D2#32
  | 29 => 0xB426FEBD#32
  | 30 => 0x342334FF#32
  | 31 => 0xB41F97EA#32
  | 32 => 0x341C2500#32
  | 33 => 0xB418D9F0#32
  | 34 => 0x3415B495#32
  | 35 => 0xB412B2ED#32
  | 36 => 0x340FD31A#32
  | 37 => 0xB40D1360#32
  | 38 => 0x340A721F#32
  | 39 => 0xB407EDD1#32
  | 40 => 0x3405850C#32
  | 41 => 0xB403367C#32
  | 42 => 0x340100E3#32
  | 43 => 0xB3FDC62E#32
  | 44 => 0x33F9B800#32
  | 45 => 0xB3F5D532#32
  | 46 => 0x33F21BD6#32
  | 47 => 0xB3EE8A1F#32
  | 48 => 0x33EB1E5A#32
  | 49 => 0xB3E7D6EF#32
  | 50 => 0x33E4B25D#32
  | 51 => 0xB3E1AF3D#32
  | 52 => 0x33DECC38#32
  | 53 => 0xB3DC0810#32
  | 54 => 0x33D96196#32
  | 55 => 0xB3D6D7AE#32
  | 56 => 0x33D4694B#32
  | 57 => 0xB3D21572#32
  | 58 => 0x33CFDB34#32
  | 59 => 0xB3CDB9B1#32
  | 60 => 0x33CBB015#32
  | 61 => 0xB3C9BD97#32
  | 62 => 0x33C7E17D#32
  | 63 => 0xB3C61B15#32
  | 64 => 0x33C469B8#32
  | 65 => 0xB3C2CCC7#32
  | 66 => 0x33C143B0#32
  | 67 => 0xB3BFCDE6#32
  | 68 => 0x33BE6AE7#32
  | 69 => 0xB3BD1A36#32
  | 70 => 0x33BBDB61#32
  | 71 => 0xB3BAADFB#32
  | 72 => 0x33B9919E#32
  | 73 => 0xB3B885EC#32
  | 74 => 0x33B78A8A#32
  | 75 => 0xB3B69F28#32
  | 76 => 0x33B5C377#32
  | 77 => 0xB3B4F732#32
  | 78 => 0x33B43A15#32
  | 79 => 0xB3B38BE5#32
  | 80 => 0x33B2EC6A#32
  | 81 => 0xB3B25B72#32
  | 82 => 0x33B1D8CF#32
  | 83 => 0xB3B16459#32
  | 84 => 0x33B0FDEA#32
  | 85 => 0xB3B0A563#32
  | 86 => 0x33B05AA9#32
  | 87 => 0xB3B01DA5#32
  | 88 => 0x33AFEE43#32
  | 89 => 0xB3AFCC75#32
  | 90 => 0x33AFB831#32
  | 91 => 0xB3AFB170#32
  | 92 => 0x33AFB831#32
  | 93 => 0xB3AFCC75#32
  | 94 => 0x33AFEE43#32
  | 95 => 0xB3B01DA5#32
  | 96 => 0x33B05AA9#32
  | 97 => 0xB3B0A563#32
  | 98 => 0x33B0FDEA#32
  | 99 => 0xB3B16459#32
  | 100 => 0x33B1D8CF#32
  | 101 => 0xB3B25B72#32
  | 102 => 0x33B2EC6A#32
  | 103 => 0xB3B38BE5#32
  | 104 => 0x33B43A15#32
  | 105 => 0xB3B4F732#32
  | 106 => 0x33B5C377#32
  | 107 => 0xB3B69F28#32
  | 108 => 0x33B78A8A#32
  | 109 => 0xB3B885EC#32
  | 110 => 0x33B9919E#32
  | 111 => 0xB3BAADFB#32
  | 112 => 0x33BBDB61#32
  | 113 => 0xB3BD1A36#32
  | 114 => 0x33BE6AE7#32
  | 115 => 0xB3BFCDE6#32
  | 116 => 0x33C143B0#32
  | 117 => 0xB3C2CCC7#32
  | 118 => 0x33C469B8#32
  | 119 => 0xB3C61B15#32
  | 120 => 0x33C7E17D#32
  | 121 => 0xB3C9BD97#32
  | 122 => 0x33CBB015#32
  | 123 => 0xB3CDB9B1#32
  | 124 => 0x33CFDB34#32
  | 125 => 0xB3D21572#32
  | 126 => 0x33D4694B#32
  | 127 => 0xB3D6D7AE#32
  | _ => 0#32

noncomputable abbrev lit0t0_184 (i : Nat) : BitVec 32 := match i % 128 with
  | 0 => 0xB3D6D7AE#32
  | 1 => 0x33D96196#32
  | 2 => 0xB3DC0810#32
  | 3 => 0x33DECC38#32
  | 4 => 0xB3E1AF3D#32
  | 5 => 0x33E4B25D#32
  | 6 => 0xB3E7D6EF#32
  | 7 => 0x33EB1E5A#32
  | 8 => 0xB3EE8A1F#32
  | 9 => 0x33F21BD6#32
  | 10 => 0xB3F5D532#32
  | 11 => 0x33F9B800#32
  | 12 => 0xB3FDC62E#32
  | 13 => 0x340100E3#32
  | 14 => 0xB403367C#32
  | 15 => 0x3405850C#32
  | 16 => 0xB407EDD1#32
  | 17 => 0x340A721F#32
  | 18 => 0xB40D1360#32
  | 19 => 0x340FD31A#32
  | 20 => 0xB412B2ED#32
  | 21 => 0x3415B495#32
  | 22 => 0xB418D9F0#32
  | 23 => 0x341C2500#32
  | 24 => 0xB41F97EA#32
  | 25 => 0x342334FF#32
  | 26 => 0xB426FEBD#32
  | 27 => 0x342AF7D2#32
  | 28 => 0xB42F2322#32
  | 29 => 0x343383CC#32
  | 30 => 0xB4381D32#32
  | 31 => 0x343CF2FA#32
  | 32 => 0xB4420919#32
  | 33 => 0x344763DA#32
  | 34 => 0xB44D07E6#32
  | 35 => 0x3452FA51#32
  | 36 => 0xB45940A1#32
  | 37 => 0x345FE0DA#32
  | 38 => 0xB466E193#32
  | 39 => 0x346E49FF#32
  | 40 => 0xB4762200#32
  | 41 => 0x347E723F#32
  | 42 => 0xB483A221#32
  | 43 => 0x34885143#32
  | 44 => 0xB48D4C4D#32
  | 45 => 0x349299A5#32
  | 46 => 0xB4984061#32
  | 47 => 0x349E485F#32
  | 48 => 0xB4A4BA5F#32
  | 49 => 0x34ABA023#32
  | 50 => 0xB4B30492#32
  | 51 => 0x34BAF3E5#32
  | 52 => 0xB4C37BD6#32
  | 53 => 0x34CCABDA#32
  | 54 => 0xB4D69568#32
  | 55 => 0x34E14C49#32
  | 56 => 0xB4ECE6F7#32
  | 57 => 0x34F97F13#32
  | 58 => 0xB50398F7#32
  | 59 => 0x350B1097#32
  | 60 => 0xB51339CD#32
  | 61 => 0x351C2B08#32
  | 62 => 0xB525FE56#32
  | 63 => 0x3530D21D#32
  | 64 => 0xB53CCA00#32
  | 65 => 0x354A0FF9#32
  | 66 => 0xB558D5BB#32
  | 67 => 0x35695670#32
  | 68 => 0xB57BD8F1#32
  | 69 => 0x3588594C#32
  | 70 => 0xB5942572#32
  | 71 => 0x35A19018#32
  | 72 => 0xB5B0E6EF#32
  | 73 => 0x35C28A3B#32
  | 74 => 0xB5D6F23A#32
  | 75 => 0x35EEB658#32
  | 76 => 0xB6054B76#32
  | 77 => 0x3615C529#32
  | 78 => 0xB6296767#32
  | 79 => 0x3641014B#32
  | 80 => 0xB65DA20C#32
  | 81 => 0x368056F2#32
  | 82 => 0xB695FBC4#32
  | 83 => 0x36B0ED61#32
  | 84 => 0xB6D29E9B#32
  | 85 => 0x36FFBDB2#32
  | 86 => 0xB692EE32#32
  | 87 => 0x391EBB1A#32
  | 88 => 0x3B12D0DF#32
  | 89 => 0x3CA0086D#32
  | 90 => 0x3DBAD58B#32
  | 91 => 0x3E6BB748#32
  | 92 => 0x3EA069FE#32
  | 93 => 0x3E6BB748#32
  | 94 => 0x3DBAD58B#32
  | 95 => 0x3CA0086D#32
  | 96 => 0x3B12D0DF#32
  | 97 => 0x391EBB1A#32
  | 98 => 0xB692EE32#32
  | 99 => 0x36FFBDB2#32
  | 100 => 0xB6D29E9B#32
  | 101 => 0x36B0ED61#32
  | 102 => 0xB695FBC4#32
  | 103 => 0x368056F2#32
  | 104 => 0xB65DA20C#32
  | 105 => 0x3641014B#32
  | 106 => 0xB6296767#32
  | 107 => 0x3615C529#32
  | 108 => 0xB6054B76#32
  | 109 => 0x35EEB658#32
  | 110 => 0xB5D6F23A#32
  | 111 => 0x35C28A3B#32
  | 112 => 0xB5B0E6EF#32
  | 113 => 0x35A19018#32
  | 114 => 0xB5942572#32
  | 115 => 0x3588594C#32
  | 116 => 0xB57BD8F1#32
  | 117 => 0x35695670#32
  | 118 => 0xB558D5BB#32
  | 119 => 0x354A0FF9#32
  | 120 => 0xB53CCA00#32
  | 121 => 0x3530D21D#32
  | 122 => 0xB525FE56#32
  | 123 => 0x351C2B08#32
  | 124 => 0xB51339CD#32
  | 125 => 0x350B1097#32
  | 126 => 0xB50398F7#32
  | 127 => 0x34F97F13#32
  | _ => 0#32

noncomputable abbrev lit0t0_185 (i : Nat) : BitVec 32 := match i % 128 with
  | 0 => 0xB4ECE6F7#32
  | 1 => 0x34E14C49#32
  | 2 => 0xB4D69568#32
  | 3 => 0x34CCABDA#32
  | 4 => 0xB4C37BD6#32
  | 5 => 0x34BAF3E5#32
  | 6 => 0xB4B30492#32
  | 7 => 0x34ABA023#32
  | 8 => 0xB4A4BA5F#32
  | 9 => 0x349E485F#32
  | 10 => 0xB4984061#32
  | 11 => 0x349299A5#32
  | 12 => 0xB48D4C4D#32
  | 13 => 0x34885142#32
  | 14 => 0xB483A221#32
  | 15 => 0x347E723F#32
  | 16 => 0xB4762200#32
  | 17 => 0x346E49FF#32
  | 18 => 0xB466E193#32
  | 19 => 0x345FE0DA#32
  | 20 => 0xB45940A1#32
  | 21 => 0x3452FA51#32
  | 22 => 0xB44D07E6#32
  | 23 => 0x344763DA#32
  | 24 => 0xB4420919#32
  | 25 => 0x343CF2FA#32
  | 26 => 0xB4381D32#32
  | 27 => 0x343383CC#32
  | 28 => 0xB42F2322#32
  | 29 => 0x342AF7D2#32
  | 30 => 0xB426FEBD#32
  | 31 => 0x342334FF#32
  | 32 => 0xB41F97EA#32
  | 33 => 0x341C2500#32
  | 34 => 0xB418D9F0#32
  | 35 => 0x3415B495#32
  | 36 => 0xB412B2ED#32
  | 37 => 0x340FD31A#32
  | 38 => 0xB40D1360#32
  | 39 => 0x340A721F#32
  | 40 => 0xB407EDD1#32
  | 41 => 0x3405850C#32
  | 42 => 0xB403367C#32
  | 43 => 0x340100E3#32
  | 44 => 0xB3FDC62E#32
  | 45 => 0x33F9B800#32
  | 46 => 0xB3F5D532#32
  | 47 => 0x33F21BD6#32
  | 48 => 0xB3EE8A1F#32
  | 49 => 0x33EB1E5A#32
  | 50 => 0xB3E7D6EF#32
  | 51 => 0x33E4B25D#32
  | 52 => 0xB3E1AF3D#32
  | 53 => 0x33DECC38#32
  | 54 => 0xB3DC0810#32
  | 55 => 0x33D96196#32
  | 56 => 0xB3D6D7AE#32
  | 57 => 0x33D4694B#32
  | 58 => 0xB3D21572#32
  | 59 => 0x33CFDB34#32
  | 60 => 0xB3CDB9B1#32
  | 61 => 0x33CBB015#32
  | 62 => 0xB3C9BD97#32
  | 63 => 0x33C7E17D#32
  | 64 => 0xB3C61B15#32
  | 65 => 0x33C469B8#32
  | 66 => 0xB3C2CCC7#32
  | 67 => 0x33C143B0#32
  | 68 => 0xB3BFCDE6#32
  | 69 => 0x33BE6AE7#32
  | 70 => 0xB3BD1A36#32
  | 71 => 0x33BBDB61#32
  | 72 => 0xB3BAADFB#32
  | 73 => 0x33B9919E#32
  | 74 => 0xB3B885EC#32
  | 75 => 0x33B78A8A#32
  | 76 => 0xB3B69F28#32
  | 77 => 0x33B5C377#32
  | 78 => 0xB3B4F732#32
  | 79 => 0x33B43A15#32
  | 80 => 0xB3B38BE5#32
  | 81 => 0x33B2EC6A#32
  | 82 => 0xB3B25B72#32
  | 83 => 0x33B1D8CF#32
  | 84 => 0xB3B16459#32
  | 85 => 0x33B0FDEA#32
  | 86 => 0xB3B0A563#32
  | 87 => 0x33B05AA9#32
  | 88 => 0xB3B01DA5#32
  | 89 => 0x33AFEE43#32
  | 90 => 0xB3AFCC75#32
  | 91 => 0x33AFB831#32
  | 92 => 0xB3AFB170#32
  | 93 => 0x33AFB831#32
  | 94 => 0xB3AFCC75#32
  | 95 => 0x33AFEE43#32
  | 96 => 0xB3B01DA5#32
  | 97 => 0x33B05AA9#32
  | 98 => 0xB3B0A563#32
  | 99 => 0x33B0FDEA#32
  | 100 => 0xB3B16459#32
  | 101 => 0x33B1D8CF#32
  | 102 => 0xB3B25B72#32
  | 103 => 0x33B2EC6A#32
  | 104 => 0xB3B38BE5#32
  | 105 => 0x33B43A15#32
  | 106 => 0xB3B4F732#32
  | 107 => 0x33B5C377#32
  | 108 => 0xB3B69F28#32
  | 109 => 0x33B78A8A#32
  | 110 => 0xB3B885EC#32
  | 111 => 0x33B9919E#32
  | 112 => 0xB3BAADFB#32
  | 113 => 0x33BBDB61#32
  | 114 => 0xB3BD1A36#32
  | 115 => 0x33BE6AE7#32
  | 116 => 0xB3BFCDE6#32
  | 117 => 0x33C143B0#32
  | 118 => 0xB3C2CCC7#32
  | 119 => 0x33C469B8#32
  | 120 => 0xB3C61B15#32
  | 121 => 0x33C7E17D#32
  | 122 => 0xB3C9BD97#32
  | 123 => 0x33CBB015#32
  | 124 => 0xB3CDB9B1#32
  | 125 => 0x33CFDB34#32
  | 126 => 0xB3D21572#32
  | 127 => 0x33D4694B#32
  | _ => 0#32

noncomputable abbrev lit0t0_186 (i : Nat) : BitVec 32 := match i % 128 with
  | 0 => 0x33D4694B#32
  | 1 => 0xB3D6D7AE#32
  | 2 => 0x33D96196#32
  | 3 => 0xB3DC0810#32
  | 4 => 0x33DECC38#32
  | 5 => 0xB3E1AF3D#32
  | 6 => 0x33E4B25D#32
  | 7 => 0xB3E7D6EF#32
  | 8 => 0x33EB1E5A#32
  | 9 => 0xB3EE8A1F#32
  | 10 => 0x33F21BD6#32
  | 11 => 0xB3F5D532#32
  | 12 => 0x33F9B800#32
  | 13 => 0xB3FDC62E#32
  | 14 => 0x340100E3#32
  | 15 => 0xB403367C#32
  | 16 => 0x3405850C#32
  | 17 => 0xB407EDD1#32
  | 18 => 0x340A721F#32
  | 19 => 0xB40D1360#32
  | 20 => 0x340FD31A#32
  | 21 => 0xB412B2ED#32
  | 22 => 0x3415B495#32
  | 23 => 0xB418D9F0#32
  | 24 => 0x341C2500#32
  | 25 => 0xB41F97EA#32
  | 26 => 0x342334FF#32
  | 27 => 0xB426FEBD#32
  | 28 => 0x342AF7D2#32
  | 29 => 0xB42F2322#32
  | 30 => 0x343383CC#32
  | 31 => 0xB4381D32#32
  | 32 => 0x343CF2FA#32
  | 33 => 0xB4420919#32
  | 34 => 0x344763DA#32
  | 35 => 0xB44D07E6#32
  | 36 => 0x3452FA51#32
  | 37 => 0xB45940A1#32
  | 38 => 0x345FE0DA#32
  | 39 => 0xB466E193#32
  | 40 => 0x346E49FF#32
  | 41 => 0xB4762200#32
  | 42 => 0x347E723F#32
  | 43 => 0xB483A221#32
  | 44 => 0x34885142#32
  | 45 => 0xB48D4C4D#32
  | 46 => 0x349299A5#32
  | 47 => 0xB4984061#32
  | 48 => 0x349E485F#32
  | 49 => 0xB4A4BA5F#32
  | 50 => 0x34ABA023#32
  | 51 => 0xB4B30492#32
  | 52 => 0x34BAF3E5#32
  | 53 => 0xB4C37BD6#32
  | 54 => 0x34CCABDA#32
  | 55 => 0xB4D69568#32
  | 56 => 0x34E14C49#32
  | 57 => 0xB4ECE6F7#32
  | 58 => 0x34F97F13#32
  | 59 => 0xB50398F7#32
  | 60 => 0x350B1097#32
  | 61 => 0xB51339CD#32
  | 62 => 0x351C2B08#32
  | 63 => 0xB525FE56#32
  | 64 => 0x3530D21D#32
  | 65 => 0xB53CCA00#32
  | 66 => 0x354A0FF9#32
  | 67 => 0xB558D5BB#32
  | 68 => 0x35695670#32
  | 69 => 0xB57BD8F1#32
  | 70 => 0x3588594C#32
  | 71 => 0xB5942572#32
  | 72 => 0x35A19018#32
  | 73 => 0xB5B0E6EF#32
  | 74 => 0x35C28A3B#32
  | 75 => 0xB5D6F23A#32
  | 76 => 0x35EEB658#32
  | 77 => 0xB6054B76#32
  | 78 => 0x3615C529#32
  | 79 => 0xB6296767#32
  | 80 => 0x3641014B#32
  | 81 => 0xB65DA20C#32
  | 82 => 0x368056F2#32
  | 83 => 0xB695FBC4#32
  | 84 => 0x36B0ED61#32
  | 85 => 0xB6D29E9B#32
  | 86 => 0x36FFBDB2#32
  | 87 => 0xB692EE32#32
  | 88 => 0x391EBB1A#32
  | 89 => 0x3B12D0DF#32
  | 90 => 0x3CA0086D#32
  | 91 => 0x3DBAD58B#32
  | 92 => 0x3E6BB748#32
  | 93 => 0x3EA069FE#32
  | 94 => 0x3E6BB748#32
  | 95 => 0x3DBAD58B#32
  | 96 => 0x3CA0086D#32
  | 97 => 0x3B12D0DF#32
  | 98 => 0x391EBB1A#32
  | 99 => 0xB692EE32#32
  | 100 => 0x36FFBDB2#32
  | 101 => 0xB6D29E9B#32
  | 102 => 0x36B0ED61#32
  | 103 => 0xB695FBC4#32
  | 104 => 0x368056F2#32
  | 105 => 0xB65DA20C#32
  | 106 => 0x3641014B#32
  | 107 => 0xB6296767#32
  | 108 => 0x3615C529#32
  | 109 => 0xB6054B76#32
  | 110 => 0x35EEB658#32
  | 111 => 0xB5D6F23A#32
  | 112 => 0x35C28A3B#32
  | 113 => 0xB5B0E6EF#32
  | 114 => 0x35A19018#32
  | 115 => 0xB5942572#32
  | 116 => 0x3588594C#32
  | 117 => 0xB57BD8F1#32
  | 118 => 0x35695670#32
  | 119 => 0xB558D5BB#32
  | 120 => 0x354A0FF9#32
  | 121 => 0xB53CCA00#32
  | 122 => 0x3530D21D#32
  | 123 => 0xB525FE56#32
  | 124 => 0x351C2B08#32
  | 125 => 0xB51339CD#32
  | 126 => 0x350B1097#32
  | 127 => 0xB50398F7#32
  | _ => 0#32

noncomputable abbrev lit0t0_187 (i : Nat) : BitVec 32 := match i % 128 with
  | 0 => 0x34F97F13#32
  | 1 => 0xB4ECE6F7#32
  | 2 => 0x34E14C49#32
  | 3 => 0xB4D69568#32
  | 4 => 0x34CCABDA#32
  | 5 => 0xB4C37BD6#32
  | 6 => 0x34BAF3E5#32
  | 7 => 0xB4B30492#32
  | 8 => 0x34ABA023#32
  | 9 => 0xB4A4BA5F#32
  | 10 => 0x349E485F#32
  | 11 => 0xB4984061#32
  | 12 => 0x349299A5#32
  | 13 => 0xB48D4C4D#32
  | 14 => 0x34885142#32
  | 15 => 0xB483A221#32
  | 16 => 0x347E723F#32
  | 17 => 0xB4762200#32
  | 18 => 0x346E49FF#32
  | 19 => 0xB466E193#32
  | 20 => 0x345FE0DA#32
  | 21 => 0xB45940A1#32
  | 22 => 0x3452FA51#32
  | 23 => 0xB44D07E6#32
  | 24 => 0x344763DA#32
  | 25 => 0xB4420919#32
  | 26 => 0x343CF2FA#32
  | 27 => 0xB4381D32#32
  | 28 => 0x343383CC#32
  | 29 => 0xB42F2322#32
  | 30 => 0x342AF7D2#32
  | 31 => 0xB426FEBD#32
  | 32 => 0x342334FF#32
  | 33 => 0xB41F97EA#32
  | 34 => 0x341C2500#32
  | 35 => 0xB418D9F0#32
  | 36 => 0x3415B495#32
  | 37 => 0xB412B2ED#32
  | 38 => 0x340FD31A#32
  | 39 => 0xB40D1360#32
  | 40 => 0x340A721F#32
  | 41 => 0xB407EDD1#32
  | 42 => 0x3405850C#32
  | 43 => 0xB403367C#32
  | 44 => 0x340100E3#32
  | 45 => 0xB3FDC62E#32
  | 46 => 0x33F9B800#32
  | 47 => 0xB3F5D532#32
  | 48 => 0x33F21BD6#32
  | 49 => 0xB3EE8A1F#32
  | 50 => 0x33EB1E5A#32
  | 51 => 0xB3E7D6EF#32
  | 52 => 0x33E4B25D#32
  | 53 => 0xB3E1AF3D#32
  | 54 => 0x33DECC38#32
  | 55 => 0xB3DC0810#32
  | 56 => 0x33D96196#32
  | 57 => 0xB3D6D7AE#32
  | 58 => 0x33D4694B#32
  | 59 => 0xB3D21572#32
  | 60 => 0x33CFDB34#32
  | 61 => 0xB3CDB9B1#32
  | 62 => 0x33CBB015#32
  | 63 => 0xB3C9BD97#32
  | 64 => 0x33C7E17D#32
  | 65 => 0xB3C61B15#32
  | 66 => 0x33C469B8#32
  | 67 => 0xB3C2CCC7#32
  | 68 => 0x33C143B0#32
  | 69 => 0xB3BFCDE6#32
  | 70 => 0x33BE6AE7#32
  | 71 => 0xB3BD1A36#32
  | 72 => 0x33BBDB61#32
  | 73 => 0xB3BAADFB#32
  | 74 => 0x33B9919E#32
  | 75 => 0xB3B885EC#32
  | 76 => 0x33B78A8A#32
  | 77 => 0xB3B69F28#32
  | 78 => 0x33B5C377#32
  | 79 => 0xB3B4F732#32
  | 80 => 0x33B43A15#32
  | 81 => 0xB3B38BE5#32
  | 82 => 0x33B2EC6A#32
  | 83 => 0xB3B25B72#32
  | 84 => 0x33B1D8CF#32
  | 85 => 0xB3B16459#32
  | 86 => 0x33B0FDEA#32
  | 87 => 0xB3B0A563#32
  | 88 => 0x33B05AA9#32
  | 89 => 0xB3B01DA5#32
  | 90 => 0x33AFEE43#32
  | 91 => 0xB3AFCC75#32
  | 92 => 0x33AFB831#32
  | 93 => 0xB3AFB170#32
  | 94 => 0x33AFB831#32
  | 95 => 0xB3AFCC75#32
  | 96 => 0x33AFEE43#32
  | 97 => 0xB3B01DA5#32
  | 98 => 0x33B05AA9#32
  | 99 => 0xB3B0A563#32
  | 100 => 0x33B0FDEA#32
  | 101 => 0xB3B16459#32
  | 102 => 0x33B1D8CF#32
  | 103 => 0xB3B25B72#32
  | 104 => 0x33B2EC6A#32
  | 105 => 0xB3B38BE5#32
  | 106 => 0x33B43A15#32
  | 107 => 0xB3B4F732#32
  | 108 => 0x33B5C377#32
  | 109 => 0xB3B69F28#32
  | 110 => 0x33B78A8A#32
  | 111 => 0xB3B885EC#32
  | 112 => 0x33B9919E#32
  | 113 => 0xB3BAADFB#32
  | 114 => 0x33BBDB61#32
  | 115 => 0xB3BD1A36#32
  | 116 => 0x33BE6AE7#32
  | 117 => 0xB3BFCDE6#32
  | 118 => 0x33C143B0#32
  | 119 => 0xB3C2CCC7#32
  | 120 => 0x33C469B8#32
  | 121 => 0xB3C61B15#32
  | 122 => 0x33C7E17D#32
  | 123 => 0xB3C9BD97#32
  | 124 => 0x33CBB015#32
  | 125 => 0xB3CDB9B1#32
  | 126 => 0x33CFDB34#32
  | 127 => 0xB3D21572#32
  | _ => 0#32

noncomputable abbrev lit0t0_188 (i : Nat) : BitVec 32 := match i % 128 with
  | 0 => 0xB3D21572#32
  | 1 => 0x33D4694B#32
  | 2 => 0xB3D6D7AE#32
  | 3 => 0x33D96196#32
  | 4 => 0xB3DC0810#32
  | 5 => 0x33DECC38#32
  | 6 => 0xB3E1AF3D#32
  | 7 => 0x33E4B25D#32
  | 8 => 0xB3E7D6EF#32
  | 9 => 0x33EB1E5A#32
  | 10 => 0xB3EE8A1F#32
  | 11 => 0x33F21BD6#32
  | 12 => 0xB3F5D532#32
  | 13 => 0x33F9B800#32
  | 14 => 0xB3FDC62E#32
  | 15 => 0x340100E3#32
  | 16 => 0xB403367C#32
  | 17 => 0x3405850C#32
  | 18 => 0xB407EDD1#32
  | 19 => 0x340A721F#32
  | 20 => 0xB40D1360#32
  | 21 => 0x340FD31A#32
  | 22 => 0xB412B2ED#32
  | 23 => 0x3415B495#32
  | 24 => 0xB418D9F0#32
  | 25 => 0x341C2500#32
  | 26 => 0xB41F97EA#32
  | 27 => 0x342334FF#32
  | 28 => 0xB426FEBD#32
  | 29 => 0x342AF7D2#32
  | 30 => 0xB42F2322#32
  | 31 => 0x343383CC#32
  | 32 => 0xB4381D32#32
  | 33 => 0x343CF2FA#32
  | 34 => 0xB4420919#32
  | 35 => 0x344763DA#32
  | 36 => 0xB44D07E6#32
  | 37 => 0x3452FA51#32
  | 38 => 0xB45940A1#32
  | 39 => 0x345FE0DA#32
  | 40 => 0xB466E193#32
  | 41 => 0x346E49FF#32
  | 42 => 0xB4762200#32
  | 43 => 0x347E723F#32
  | 44 => 0xB483A221#32
  | 45 => 0x34885142#32
  | 46 => 0xB48D4C4D#32
  | 47 => 0x349299A5#32
  | 48 => 0xB4984061#32
  | 49 => 0x349E485F#32
  | 50 => 0xB4A4BA5F#32
  | 51 => 0x34ABA023#32
  | 52 => 0xB4B30492#32
  | 53 => 0x34BAF3E5#32
  | 54 => 0xB4C37BD6#32
  | 55 => 0x34CCABDA#32
  | 56 => 0xB4D69568#32
  | 57 => 0x34E14C49#32
  | 58 => 0xB4ECE6F7#32
  | 59 => 0x34F97F13#32
  | 60 => 0xB50398F7#32
  | 61 => 0x350B1097#32
  | 62 => 0xB51339CD#32
  | 63 => 0x351C2B08#32
  | 64 => 0xB525FE56#32
  | 65 => 0x3530D21D#32
  | 66 => 0xB53CCA00#32
  | 67 => 0x354A0FF9#32
  | 68 => 0xB558D5BB#32
  | 69 => 0x35695670#32
  | 70 => 0xB57BD8F1#32
  | 71 => 0x3588594C#32
  | 72 => 0xB5942572#32
  | 73 => 0x35A19018#32
  | 74 => 0xB5B0E6EF#32
  | 75 => 0x35C28A3B#32
  | 76 => 0xB5D6F23A#32
  | 77 => 0x35EEB658#32
  | 78 => 0xB6054B76#32
  | 79 => 0x3615C529#32
  | 80 => 0xB6296767#32
  | 81 => 0x3641014B#32
  | 82 => 0xB65DA20C#32
  | 83 => 0x368056F2#32
  | 84 => 0xB695FBC4#32
  | 85 => 0x36B0ED61#32
  | 86 => 0xB6D29E9B#32
  | 87 => 0x36FFBDB2#32
  | 88 => 0xB692EE32#32
  | 89 => 0x391EBB1A#32
  | 90 => 0x3B12D0DF#32
  | 91 => 0x3CA0086D#32
  | 92 => 0x3DBAD58B#32
  | 93 => 0x3E6BB748#32
  | 94 => 0x3EA069FE#32
  | 95 => 0x3E6BB748#32
  | 96 => 0x3DBAD58B#32
  | 97 => 0x3CA0086D#32
  | 98 => 0x3B12D0DF#32
  | 99 => 0x391EBB1A#32
  | 100 => 0xB692EE32#32
  | 101 => 0x36FFBDB2#32
  | 102 => 0xB6D29E9B#32
  | 103 => 0x36B0ED61#32
  | 104 => 0xB695FBC4#32
  | 105 => 0x368056F2#32
  | 106 => 0xB65DA20C#32
  | 107 => 0x3641014B#32
  | 108 => 0xB6296767#32
  | 109 => 0x3615C529#32
  | 110 => 0xB6054B76#32
  | 111 => 0x35EEB658#32
  | 112 => 0xB5D6F23A#32
  | 113 => 0x35C28A3B#32
  | 114 => 0xB5B0E6EF#32
  | 115 => 0x35A19018#32
  | 116 => 0xB5942572#32
  | 117 => 0x3588594C#32
  | 118 => 0xB57BD8F1#32
  | 119 => 0x35695670#32
  | 120 => 0xB558D5BB#32
  | 121 => 0x354A0FF9#32
  | 122 => 0xB53CCA00#32
  | 123 => 0x3530D21D#32
  | 124 => 0xB525FE56#32
  | 125 => 0x351C2B08#32
  | 126 => 0xB51339CD#32
  | 127 => 0x350B1097#32
  | _ => 0#32

noncomputable abbrev lit0t0_189 (i : Nat) : BitVec 32 := match i % 128 with
  | 0 => 0xB50398F7#32
  | 1 => 0x34F97F13#32
  | 2 => 0xB4ECE6F7#32
  | 3 => 0x34E14C49#32
  | 4 => 0xB4D69568#32
  | 5 => 0x34CCABDA#32
  | 6 => 0xB4C37BD6#32
  | 7 => 0x34BAF3E5#32
  | 8 => 0xB4B30492#32
  | 9 => 0x34ABA023#32
  | 10 => 0xB4A4BA5F#32
  | 11 => 0x349E485F#32
  | 12 => 0xB4984061#32
  | 13 => 0x349299A5#32
  | 14 => 0xB48D4C4D#32
  | 15 => 0x34885143#32
  | 16 => 0xB483A221#32
  | 17 => 0x347E723F#32
  | 18 => 0xB4762200#32
  | 19 => 0x346E49FF#32
  | 20 => 0xB466E193#32
  | 21 => 0x345FE0DA#32
  | 22 => 0xB45940A1#32
  | 23 => 0x3452FA51#32
  | 24 => 0xB44D07E6#32
  | 25 => 0x344763DA#32
  | 26 => 0xB4420919#32
  | 27 => 0x343CF2FA#32
  | 28 => 0xB4381D32#32
  | 29 => 0x343383CC#32
  | 30 => 0xB42F2322#32
  | 31 => 0x342AF7D2#32
  | 32 => 0xB426FEBD#32
  | 33 => 0x342334FF#32
  | 34 => 0xB41F97EA#32
  | 35 => 0x341C2500#32
  | 36 => 0xB418D9F0#32
  | 37 => 0x3415B495#32
  | 38 => 0xB412B2ED#32
  | 39 => 0x340FD31A#32
  | 40 => 0xB40D1360#32
  | 41 => 0x340A721F#32
  | 42 => 0xB407EDD1#32
  | 43 => 0x3405850C#32
  | 44 => 0xB403367C#32
  | 45 => 0x340100E3#32
  | 46 => 0xB3FDC62E#32
  | 47 => 0x33F9B800#32
  | 48 => 0xB3F5D532#32
  | 49 => 0x33F21BD6#32
  | 50 => 0xB3EE8A1F#32
  | 51 => 0x33EB1E5A#32
  | 52 => 0xB3E7D6EF#32
  | 53 => 0x33E4B25D#32
  | 54 => 0xB3E1AF3D#32
  | 55 => 0x33DECC38#32
  | 56 => 0xB3DC0810#32
  | 57 => 0x33D96196#32
  | 58 => 0xB3D6D7AE#32
  | 59 => 0x33D4694B#32
  | 60 => 0xB3D21572#32
  | 61 => 0x33CFDB34#32
  | 62 => 0xB3CDB9B1#32
  | 63 => 0x33CBB015#32
  | 64 => 0xB3C9BD97#32
  | 65 => 0x33C7E17D#32
  | 66 => 0xB3C61B15#32
  | 67 => 0x33C469B8#32
  | 68 => 0xB3C2CCC7#32
  | 69 => 0x33C143B0#32
  | 70 => 0xB3BFCDE6#32
  | 71 => 0x33BE6AE7#32
  | 72 => 0xB3BD1A36#32
  | 73 => 0x33BBDB61#32
  | 74 => 0xB3BAADFB#32
  | 75 => 0x33B9919E#32
  | 76 => 0xB3B885EC#32
  | 77 => 0x33B78A8A#32
  | 78 => 0xB3B69F28#32
  | 79 => 0x33B5C377#32
  | 80 => 0xB3B4F732#32
  | 81 => 0x33B43A15#32
  | 82 => 0xB3B38BE5#32
  | 83 => 0x33B2EC6A#32
  | 84 => 0xB3B25B72#32
  | 85 => 0x33B1D8CF#32
  | 86 => 0xB3B16459#32
  | 87 => 0x33B0FDEA#32
  | 88 => 0xB3B0A563#32
  | 89 => 0x33B05AA9#32
  | 90 => 0xB3B01DA5#32
  | 91 => 0x33AFEE43#32
  | 92 => 0xB3AFCC75#32
  | 93 => 0x33AFB831#32
  | 94 => 0xB3AFB170#32
  | 95 => 0x33AFB831#32
  | 96 => 0xB3AFCC75#32
  | 97 => 0x33AFEE43#32
  | 98 => 0xB3B01DA5#32
  | 99 => 0x33B05AA9#32
  | 100 => 0xB3B0A563#32
  | 101 => 0x33B0FDEA#32
  | 102 => 0xB3B16459#32
  | 103 => 0x33B1D8CF#32
  | 104 => 0xB3B25B72#32
  | 105 => 0x33B2EC6A#32
  | 106 => 0xB3B38BE5#32
  | 107 => 0x33B43A15#32
  | 108 => 0xB3B4F732#32
  | 109 => 0x33B5C377#32
  | 110 => 0xB3B69F28#32
  | 111 => 0x33B78A8A#32
  | 112 => 0xB3B885EC#32
  | 113 => 0x33B9919E#32
  | 114 => 0xB3BAADFB#32
  | 115 => 0x33BBDB61#32
  | 116 => 0xB3BD1A36#32
  | 117 => 0x33BE6AE7#32
  | 118 => 0xB3BFCDE6#32
  | 119 => 0x33C143B0#32
  | 120 => 0xB3C2CCC7#32
  | 121 => 0x33C469B8#32
  | 122 => 0xB3C61B15#32
  | 123 => 0x33C7E17D#32
  | 124 => 0xB3C9BD97#32
  | 125 => 0x33CBB015#32
  | 126 => 0xB3CDB9B1#32
  | 127 => 0x33CFDB34#32
  | _ => 0#32

noncomputable abbrev lit0t0_190 (i : Nat) : BitVec 32 := match i % 128 with
  | 0 => 0x33CFDB34#32
  | 1 => 0xB3D21572#32
  | 2 => 0x33D4694B#32
  | 3 => 0xB3D6D7AE#32
  | 4 => 0x33D96196#32
  | 5 => 0xB3DC0810#32
  | 6 => 0x33DECC38#32
  | 7 => 0xB3E1AF3D#32
  | 8 => 0x33E4B25D#32
  | 9 => 0xB3E7D6EF#32
  | 10 => 0x33EB1E5A#32
  | 11 => 0xB3EE8A1F#32
  | 12 => 0x33F21BD6#32
  | 13 => 0xB3F5D532#32
  | 14 => 0x33F9B800#32
  | 15 => 0xB3FDC62E#32
  | 16 => 0x340100E3#32
  | 17 => 0xB403367C#32
  | 18 => 0x3405850C#32
  | 19 => 0xB407EDD1#32
  | 20 => 0x340A721F#32
  | 21 => 0xB40D1360#32
  | 22 => 0x340FD31A#32
  | 23 => 0xB412B2ED#32
  | 24 => 0x3415B495#32
  | 25 => 0xB418D9F0#32
  | 26 => 0x341C2500#32
  | 27 => 0xB41F97EA#32
  | 28 => 0x342334FF#32
  | 29 => 0xB426FEBD#32
  | 30 => 0x342AF7D2#32
  | 31 => 0xB42F2322#32
  | 32 => 0x343383CC#32
  | 33 => 0xB4381D32#32
  | 34 => 0x343CF2FA#32
  | 35 => 0xB4420919#32
  | 36 => 0x344763DA#32
  | 37 => 0xB44D07E6#32
  | 38 => 0x3452FA51#32
  | 39 => 0xB45940A1#32
  | 40 => 0x345FE0DA#32
  | 41 => 0xB466E193#32
  | 42 => 0x346E49FF#32
  | 43 => 0xB4762200#32
  | 44 => 0x347E723F#32
  | 45 => 0xB483A221#32
  | 46 => 0x34885143#32
  | 47 => 0xB48D4C4D#32
  | 48 => 0x349299A5#32
  | 49 => 0xB4984061#32
  | 50 => 0x349E485F#32
  | 51 => 0xB4A4BA5F#32
  | 52 => 0x34ABA023#32
  | 53 => 0xB4B30492#32
  | 54 => 0x34BAF3E5#32
  | 55 => 0xB4C37BD6#32
  | 56 => 0x34CCABDA#32
  | 57 => 0xB4D69568#32
  | 58 => 0x34E14C49#32
  | 59 => 0xB4ECE6F7#32
  | 60 => 0x34F97F13#32
  | 61 => 0xB50398F7#32
  | 62 => 0x350B1097#32
  | 63 => 0xB51339CD#32
  | 64 => 0x351C2B08#32
  | 65 => 0xB525FE56#32
  | 66 => 0x3530D21D#32
  | 67 => 0xB53CCA00#32
  | 68 => 0x354A0FF9#32
  | 69 => 0xB558D5BB#32
  | 70 => 0x35695670#32
  | 71 => 0xB57BD8F1#32
  | 72 => 0x3588594C#32
  | 73 => 0xB5942572#32
  | 74 => 0x35A19018#32
  | 75 => 0xB5B0E6EF#32
  | 76 => 0x35C28A3B#32
  | 77 => 0xB5D6F23A#32
  | 78 => 0x35EEB658#32
  | 79 => 0xB6054B76#32
  | 80 => 0x3615C529#32
  | 81 => 0xB6296767#32
  | 82 => 0x3641014B#32
  | 83 => 0xB65DA20C#32
  | 84 => 0x368056F2#32
  | 85 => 0xB695FBC4#32
  | 86 => 0x36B0ED61#32
  | 87 => 0xB6D29E9B#32
  | 88 => 0x36FFBDB2#32
  | 89 => 0xB692EE32#32
  | 90 => 0x391EBB1A#32
  | 91 => 0x3B12D0DF#32
  | 92 => 0x3CA0086D#32
  | 93 => 0x3DBAD58B#32
  | 94 => 0x3E6BB748#32
  | 95 => 0x3EA069FE#32
  | 96 => 0x3E6BB748#32
  | 97 => 0x3DBAD58B#32
  | 98 => 0x3CA0086D#32
  | 99 => 0x3B12D0DF#32
  | 100 => 0x391EBB1A#32
  | 101 => 0xB692EE32#32
  | 102 => 0x36FFBDB2#32
  | 103 => 0xB6D29E9B#32
  | 104 => 0x36B0ED61#32
  | 105 => 0xB695FBC4#32
  | 106 => 0x368056F2#32
  | 107 => 0xB65DA20C#32
  | 108 => 0x3641014B#32
  | 109 => 0xB6296767#32
  | 110 => 0x3615C529#32
  | 111 => 0xB6054B76#32
  | 112 => 0x35EEB658#32
  | 113 => 0xB5D6F23A#32
  | 114 => 0x35C28A3B#32
  | 115 => 0xB5B0E6EF#32
  | 116 => 0x35A19018#32
  | 117 => 0xB5942572#32
  | 118 => 0x3588594C#32
  | 119 => 0xB57BD8F1#32
  | 120 => 0x35695670#32
  | 121 => 0xB558D5BB#32
  | 122 => 0x354A0FF9#32
  | 123 => 0xB53CCA00#32
  | 124 => 0x3530D21D#32
  | 125 => 0xB525FE56#32
  | 126 => 0x351C2B08#32
  | 127 => 0xB51339CD#32
  | _ => 0#32

noncomputable abbrev lit0t0_191 (i : Nat) : BitVec 32 := match i % 128 with
  | 0 => 0x350B1097#32
  | 1 => 0xB50398F7#32
  | 2 => 0x34F97F13#32
  | 3 => 0xB4ECE6F7#32
  | 4 => 0x34E14C49#32
  | 5 => 0xB4D69568#32
  | 6 => 0x34CCABDA#32
  | 7 => 0xB4C37BD6#32
  | 8 => 0x34BAF3E5#32
  | 9 => 0xB4B30492#32
  | 10 => 0x34ABA023#32
  | 11 => 0xB4A4BA5F#32
  | 12 => 0x349E485F#32
  | 13 => 0xB4984061#32
  | 14 => 0x349299A5#32
  | 15 => 0xB48D4C4D#32
  | 16 => 0x34885143#32
  | 17 => 0xB483A221#32
  | 18 => 0x347E723F#32
  | 19 => 0xB4762200#32
  | 20 => 0x346E49FF#32
  | 21 => 0xB466E193#32
  | 22 => 0x345FE0DA#32
  | 23 => 0xB45940A1#32
  | 24 => 0x3452FA51#32
  | 25 => 0xB44D07E6#32
  | 26 => 0x344763DA#32
  | 27 => 0xB4420919#32
  | 28 => 0x343CF2FA#32
  | 29 => 0xB4381D32#32
  | 30 => 0x343383CC#32
  | 31 => 0xB42F2322#32
  | 32 => 0x342AF7D2#32
  | 33 => 0xB426FEBD#32
  | 34 => 0x342334FF#32
  | 35 => 0xB41F97EA#32
  | 36 => 0x341C2500#32
  | 37 => 0xB418D9F0#32
  | 38 => 0x3415B495#32
  | 39 => 0xB412B2ED#32
  | 40 => 0x340FD31A#32
  | 41 => 0xB40D1360#32
  | 42 => 0x340A721F#32
  | 43 => 0xB407EDD1#32
  | 44 => 0x3405850C#32
  | 45 => 0xB403367C#32
  | 46 => 0x340100E3#32
  | 47 => 0xB3FDC62E#32
  | 48 => 0x33F9B800#32
  | 49 => 0xB3F5D532#32
  | 50 => 0x33F21BD6#32
  | 51 => 0xB3EE8A1F#32
  | 52 => 0x33EB1E5A#32
  | 53 => 0xB3E7D6EF#32
  | 54 => 0x33E4B25D#32
  | 55 => 0xB3E1AF3D#32
  | 56 => 0x33DECC38#32
  | 57 => 0xB3DC0810#32
  | 58 => 0x33D96196#32
  | 59 => 0xB3D6D7AE#32
  | 60 => 0x33D4694B#32
  | 61 => 0xB3D21572#32
  | 62 => 0x33CFDB34#32
  | 63 => 0xB3CDB9B1#32
  | 64 => 0x33CBB015#32
  | 65 => 0xB3C9BD97#32
  | 66 => 0x33C7E17D#32
  | 67 => 0xB3C61B15#32
  | 68 => 0x33C469B8#32
  | 69 => 0xB3C2CCC7#32
  | 70 => 0x33C143B0#32
  | 71 => 0xB3BFCDE6#32
  | 72 => 0x33BE6AE7#32
  | 73 => 0xB3BD1A36#32
  | 74 => 0x33BBDB61#32
  | 75 => 0xB3BAADFB#32
  | 76 => 0x33B9919E#32
  | 77 => 0xB3B885EC#32
  | 78 => 0x33B78A8A#32
  | 79 => 0xB3B69F28#32
  | 80 => 0x33B5C377#32
  | 81 => 0xB3B4F732#32
  | 82 => 0x33B43A15#32
  | 83 => 0xB3B38BE5#32
  | 84 => 0x33B2EC6A#32
  | 85 => 0xB3B25B72#32
  | 86 => 0x33B1D8CF#32
  | 87 => 0xB3B16459#32
  | 88 => 0x33B0FDEA#32
  | 89 => 0xB3B0A563#32
  | 90 => 0x33B05AA9#32
  | 91 => 0xB3B01DA5#32
  | 92 => 0x33AFEE43#32
  | 93 => 0xB3AFCC75#32
  | 94 => 0x33AFB831#32
  | 95 => 0xB3AFB170#32
  | 96 => 0x33AFB831#32
  | 97 => 0xB3AFCC75#32
  | 98 => 0x33AFEE43#32
  | 99 => 0xB3B01DA5#32
  | 100 => 0x33B05AA9#32
  | 101 => 0xB3B0A563#32
  | 102 => 0x33B0FDEA#32
  | 103 => 0xB3B16459#32
  | 104 => 0x33B1D8CF#32
  | 105 => 0xB3B25B72#32
  | 106 => 0x33B2EC6A#32
  | 107 => 0xB3B38BE5#32
  | 108 => 0x33B43A15#32
  | 109 => 0xB3B4F732#32
  | 110 => 0x33B5C377#32
  | 111 => 0xB3B69F28#32
  | 112 => 0x33B78A8A#32
  | 113 => 0xB3B885EC#32
  | 114 => 0x33B9919E#32
  | 115 => 0xB3BAADFB#32
  | 116 => 0x33BBDB61#32
  | 117 => 0xB3BD1A36#32
  | 118 => 0x33BE6AE7#32
  | 119 => 0xB3BFCDE6#32
  | 120 => 0x33C143B0#32
  | 121 => 0xB3C2CCC7#32
  | 122 => 0x33C469B8#32
  | 123 => 0xB3C61B15#32
  | 124 => 0x33C7E17D#32
  | 125 => 0xB3C9BD97#32
  | 126 => 0x33CBB015#32
  | 127 => 0xB3CDB9B1#32
  | _ => 0#32

noncomputable abbrev lit0t0_192 (i : Nat) : BitVec 32 := match i % 128 with
  | 0 => 0xB3CDB9B1#32
  | 1 => 0x33CFDB34#32
  | 2 => 0xB3D21572#32
  | 3 => 0x33D4694B#32
  | 4 => 0xB3D6D7AE#32
  | 5 => 0x33D96196#32
  | 6 => 0xB3DC0810#32
  | 7 => 0x33DECC38#32
  | 8 => 0xB3E1AF3D#32
  | 9 => 0x33E4B25D#32
  | 10 => 0xB3E7D6EF#32
  | 11 => 0x33EB1E5A#32
  | 12 => 0xB3EE8A1F#32
  | 13 => 0x33F21BD6#32
  | 14 => 0xB3F5D532#32
  | 15 => 0x33F9B800#32
  | 16 => 0xB3FDC62E#32
  | 17 => 0x340100E3#32
  | 18 => 0xB403367C#32
  | 19 => 0x3405850C#32
  | 20 => 0xB407EDD1#32
  | 21 => 0x340A721F#32
  | 22 => 0xB40D1360#32
  | 23 => 0x340FD31A#32
  | 24 => 0xB412B2ED#32
  | 25 => 0x3415B495#32
  | 26 => 0xB418D9F0#32
  | 27 => 0x341C2500#32
  | 28 => 0xB41F97EA#32
  | 29 => 0x342334FF#32
  | 30 => 0xB426FEBD#32
  | 31 => 0x342AF7D2#32
  | 32 => 0xB42F2322#32
  | 33 => 0x343383CC#32
  | 34 => 0xB4381D32#32
  | 35 => 0x343CF2FA#32
  | 36 => 0xB4420919#32
  | 37 => 0x344763DA#32
  | 38 => 0xB44D07E6#32
  | 39 => 0x3452FA51#32
  | 40 => 0xB45940A1#32
  | 41 => 0x345FE0DA#32
  | 42 => 0xB466E193#32
  | 43 => 0x346E49FF#32
  | 44 => 0xB4762200#32
  | 45 => 0x347E723F#32
  | 46 => 0xB483A221#32
  | 47 => 0x34885143#32
  | 48 => 0xB48D4C4D#32
  | 49 => 0x349299A5#32
  | 50 => 0xB4984061#32
  | 51 => 0x349E485F#32
  | 52 => 0xB4A4BA5F#32
  | 53 => 0x34ABA023#32
  | 54 => 0xB4B30492#32
  | 55 => 0x34BAF3E5#32
  | 56 => 0xB4C37BD6#32
  | 57 => 0x34CCABDA#32
  | 58 => 0xB4D69568#32
  | 59 => 0x34E14C49#32
  | 60 => 0xB4ECE6F7#32
  | 61 => 0x34F97F13#32
  | 62 => 0xB50398F7#32
  | 63 => 0x350B1097#32
  | 64 => 0xB51339CD#32
  | 65 => 0x351C2B08#32
  | 66 => 0xB525FE56#32
  | 67 => 0x3530D21D#32
  | 68 => 0xB53CCA00#32
  | 69 => 0x354A0FF9#32
  | 70 => 0xB558D5BB#32
  | 71 => 0x35695670#32
  | 72 => 0xB57BD8F1#32
  | 73 => 0x3588594C#32
  | 74 => 0xB5942572#32
  | 75 => 0x35A19018#32
  | 76 => 0xB5B0E6EF#32
  | 77 => 0x35C28A3B#32
  | 78 => 0xB5D6F23A#32
  | 79 => 0x35EEB658#32
  | 80 => 0xB6054B76#32
  | 81 => 0x3615C529#32
  | 82 => 0xB6296767#32
  | 83 => 0x3641014B#32
  | 84 => 0xB65DA20C#32
  | 85 => 0x368056F2#32
  | 86 => 0xB695FBC4#32
  | 87 => 0x36B0ED61#32
  | 88 => 0xB6D29E9B#32
  | 89 => 0x36FFBDB2#32
  | 90 => 0xB692EE32#32
  | 91 => 0x391EBB1A#32
  | 92 => 0x3B12D0DF#32
  | 93 => 0x3CA0086D#32
  | 94 => 0x3DBAD58B#32
  | 95 => 0x3E6BB748#32
  | 96 => 0x3EA069FE#32
  | 97 => 0x3E6BB748#32
  | 98 => 0x3DBAD58B#32
  | 99 => 0x3CA0086D#32
  | 100 => 0x3B12D0DF#32
  | 101 => 0x391EBB1A#32
  | 102 => 0xB692EE32#32
  | 103 => 0x36FFBDB2#32
  | 104 => 0xB6D29E9B#32
  | 105 => 0x36B0ED61#32
  | 106 => 0xB695FBC4#32
  | 107 => 0x368056F2#32
  | 108 => 0xB65DA20C#32
  | 109 => 0x3641014B#32
  | 110 => 0xB6296767#32
  | 111 => 0x3615C529#32
  | 112 => 0xB6054B76#32
  | 113 => 0x35EEB658#32
  | 114 => 0xB5D6F23A#32
  | 115 => 0x35C28A3B#32
  | 116 => 0xB5B0E6EF#32
  | 117 => 0x35A19018#32
  | 118 => 0xB5942572#32
  | 119 => 0x3588594C#32
  | 120 => 0xB57BD8F1#32
  | 121 => 0x35695670#32
  | 122 => 0xB558D5BB#32
  | 123 => 0x354A0FF9#32
  | 124 => 0xB53CCA00#32
  | 125 => 0x3530D21D#32
  | 126 => 0xB525FE56#32
  | 127 => 0x351C2B08#32
  | _ => 0#32

noncomputable abbrev lit0t0_193 (i : Nat) : BitVec 32 := match i % 128 with
  | 0 => 0xB51339CD#32
  | 1 => 0x350B1097#32
  | 2 => 0xB50398F7#32
  | 3 => 0x34F97F13#32
  | 4 => 0xB4ECE6F7#32
  | 5 => 0x34E14C49#32
  | 6 => 0xB4D69568#32
  | 7 => 0x34CCABDA#32
  | 8 => 0xB4C37BD6#32
  | 9 => 0x34BAF3E5#32
  | 10 => 0xB4B30492#32
  | 11 => 0x34ABA023#32
  | 12 => 0xB4A4BA5F#32
  | 13 => 0x349E485F#32
  | 14 => 0xB4984061#32
  | 15 => 0x349299A5#32
  | 16 => 0xB48D4C4D#32
  | 17 => 0x34885142#32
  | 18 => 0xB483A221#32
  | 19 => 0x347E723F#32
  | 20 => 0xB4762200#32
  | 21 => 0x346E49FF#32
  | 22 => 0xB466E193#32
  | 23 => 0x345FE0DA#32
  | 24 => 0xB45940A1#32
  | 25 => 0x3452FA51#32
  | 26 => 0xB44D07E6#32
  | 27 => 0x344763DA#32
  | 28 => 0xB4420919#32
  | 29 => 0x343CF2FA#32
  | 30 => 0xB4381D32#32
  | 31 => 0x343383CC#32
  | 32 => 0xB42F2322#32
  | 33 => 0x342AF7D2#32
  | 34 => 0xB426FEBD#32
  | 35 => 0x342334FF#32
  | 36 => 0xB41F97EA#32
  | 37 => 0x341C2500#32
  | 38 => 0xB418D9F0#32
  | 39 => 0x3415B495#32
  | 40 => 0xB412B2ED#32
  | 41 => 0x340FD31A#32
  | 42 => 0xB40D1360#32
  | 43 => 0x340A721F#32
  | 44 => 0xB407EDD1#32
  | 45 => 0x3405850C#32
  | 46 => 0xB403367C#32
  | 47 => 0x340100E3#32
  | 48 => 0xB3FDC62E#32
  | 49 => 0x33F9B800#32
  | 50 => 0xB3F5D532#32
  | 51 => 0x33F21BD6#32
  | 52 => 0xB3EE8A1F#32
  | 53 => 0x33EB1E5A#32
  | 54 => 0xB3E7D6EF#32
  | 55 => 0x33E4B25D#32
  | 56 => 0xB3E1AF3D#32
  | 57 => 0x33DECC38#32
  | 58 => 0xB3DC0810#32
  | 59 => 0x33D96196#32
  | 60 => 0xB3D6D7AE#32
  | 61 => 0x33D4694B#32
  | 62 => 0xB3D21572#32
  | 63 => 0x33CFDB34#32
  | 64 => 0xB3CDB9B1#32
  | 65 => 0x33CBB015#32
  | 66 => 0xB3C9BD97#32
  | 67 => 0x33C7E17D#32
  | 68 => 0xB3C61B15#32
  | 69 => 0x33C469B8#32
  | 70 => 0xB3C2CCC7#32
  | 71 => 0x33C143B0#32
  | 72 => 0xB3BFCDE6#32
  | 73 => 0x33BE6AE7#32
  | 74 => 0xB3BD1A36#32
  | 75 => 0x33BBDB61#32
  | 76 => 0xB3BAADFB#32
  | 77 => 0x33B9919E#32
  | 78 => 0xB3B885EC#32
  | 79 => 0x33B78A8A#32
  | 80 => 0xB3B69F28#32
  | 81 => 0x33B5C377#32
  | 82 => 0xB3B4F732#32
  | 83 => 0x33B43A15#32
  | 84 => 0xB3B38BE5#32
  | 85 => 0x33B2EC6A#32
  | 86 => 0xB3B25B72#32
  | 87 => 0x33B1D8CF#32
  | 88 => 0xB3B16459#32
  | 89 => 0x33B0FDEA#32
  | 90 => 0xB3B0A563#32
  | 91 => 0x33B05AA9#32
  | 92 => 0xB3B01DA5#32
  | 93 => 0x33AFEE43#32
  | 94 => 0xB3AFCC75#32
  | 95 => 0x33AFB831#32
  | 96 => 0xB3AFB170#32
  | 97 => 0x33AFB831#32
  | 98 => 0xB3AFCC75#32
  | 99 => 0x33AFEE43#32
  | 100 => 0xB3B01DA5#32
  | 101 => 0x33B05AA9#32
  | 102 => 0xB3B0A563#32
  | 103 => 0x33B0FDEA#32
  | 104 => 0xB3B16459#32
  | 105 => 0x33B1D8CF#32
  | 106 => 0xB3B25B72#32
  | 107 => 0x33B2EC6A#32
  | 108 => 0xB3B38BE5#32
  | 109 => 0x33B43A15#32
  | 110 => 0xB3B4F732#32
  | 111 => 0x33B5C377#32
  | 112 => 0xB3B69F28#32
  | 113 => 0x33B78A8A#32
  | 114 => 0xB3B885EC#32
  | 115 => 0x33B9919E#32
  | 116 => 0xB3BAADFB#32
  | 117 => 0x33BBDB61#32
  | 118 => 0xB3BD1A36#32
  | 119 => 0x33BE6AE7#32
  | 120 => 0xB3BFCDE6#32
  | 121 => 0x33C143B0#32
  | 122 => 0xB3C2CCC7#32
  | 123 => 0x33C469B8#32
  | 124 => 0xB3C61B15#32
  | 125 => 0x33C7E17D#32
  | 126 => 0xB3C9BD97#32
  | 127 => 0x33CBB015#32
  | _ => 0#32

noncomputable abbrev lit0t0_194 (i : Nat) : BitVec 32 := match i % 128 with
  | 0 => 0x33CBB015#32
  | 1 => 0xB3CDB9B1#32
  | 2 => 0x33CFDB34#32
  | 3 => 0xB3D21572#32
  | 4 => 0x33D4694B#32
  | 5 => 0xB3D6D7AE#32
  | 6 => 0x33D96196#32
  | 7 => 0xB3DC0810#32
  | 8 => 0x33DECC38#32
  | 9 => 0xB3E1AF3D#32
  | 10 => 0x33E4B25D#32
  | 11 => 0xB3E7D6EF#32
  | 12 => 0x33EB1E5A#32
  | 13 => 0xB3EE8A1F#32
  | 14 => 0x33F21BD6#32
  | 15 => 0xB3F5D532#32
  | 16 => 0x33F9B800#32
  | 17 => 0xB3FDC62E#32
  | 18 => 0x340100E3#32
  | 19 => 0xB403367C#32
  | 20 => 0x3405850C#32
  | 21 => 0xB407EDD1#32
  | 22 => 0x340A721F#32
  | 23 => 0xB40D1360#32
  | 24 => 0x340FD31A#32
  | 25 => 0xB412B2ED#32
  | 26 => 0x3415B495#32
  | 27 => 0xB418D9F0#32
  | 28 => 0x341C2500#32
  | 29 => 0xB41F97EA#32
  | 30 => 0x342334FF#32
  | 31 => 0xB426FEBD#32
  | 32 => 0x342AF7D2#32
  | 33 => 0xB42F2322#32
  | 34 => 0x343383CC#32
  | 35 => 0xB4381D32#32
  | 36 => 0x343CF2FA#32
  | 37 => 0xB4420919#32
  | 38 => 0x344763DA#32
  | 39 => 0xB44D07E6#32
  | 40 => 0x3452FA51#32
  | 41 => 0xB45940A1#32
  | 42 => 0x345FE0DA#32
  | 43 => 0xB466E193#32
  | 44 => 0x346E49FF#32
  | 45 => 0xB4762200#32
  | 46 => 0x347E723F#32
  | 47 => 0xB483A221#32
  | 48 => 0x34885142#32
  | 49 => 0xB48D4C4D#32
  | 50 => 0x349299A5#32
  | 51 => 0xB4984061#32
  | 52 => 0x349E485F#32
  | 53 => 0xB4A4BA5F#32
  | 54 => 0x34ABA023#32
  | 55 => 0xB4B30492#32
  | 56 => 0x34BAF3E5#32
  | 57 => 0xB4C37BD6#32
  | 58 => 0x34CCABDA#32
  | 59 => 0xB4D69568#32
  | 60 => 0x34E14C49#32
  | 61 => 0xB4ECE6F7#32
  | 62 => 0x34F97F13#32
  | 63 => 0xB50398F7#32
  | 64 => 0x350B1097#32
  | 65 => 0xB51339CD#32
  | 66 => 0x351C2B08#32
  | 67 => 0xB525FE56#32
  | 68 => 0x3530D21D#32
  | 69 => 0xB53CCA00#32
  | 70 => 0x354A0FF9#32
  | 71 => 0xB558D5BB#32
  | 72 => 0x35695670#32
  | 73 => 0xB57BD8F1#32
  | 74 => 0x3588594C#32
  | 75 => 0xB5942572#32
  | 76 => 0x35A19018#32
  | 77 => 0xB5B0E6EF#32
  | 78 => 0x35C28A3B#32
  | 79 => 0xB5D6F23A#32
  | 80 => 0x35EEB658#32
  | 81 => 0xB6054B76#32
  | 82 => 0x3615C529#32
  | 83 => 0xB6296767#32
  | 84 => 0x3641014B#32
  | 85 => 0xB65DA20C#32
  | 86 => 0x368056F2#32
  | 87 => 0xB695FBC4#32
  | 88 => 0x36B0ED61#32
  | 89 => 0xB6D29E9B#32
  | 90 => 0x36FFBDB2#32
  | 91 => 0xB692EE32#32
  | 92 => 0x391EBB1A#32
  | 93 => 0x3B12D0DF#32
  | 94 => 0x3CA0086D#32
  | 95 => 0x3DBAD58B#32
  | 96 => 0x3E6BB748#32
  | 97 => 0x3EA069FE#32
  | 98 => 0x3E6BB748#32
  | 99 => 0x3DBAD58B#32
  | 100 => 0x3CA0086D#32
  | 101 => 0x3B12D0DF#32
  | 102 => 0x391EBB1A#32
  | 103 => 0xB692EE32#32
  | 104 => 0x36FFBDB2#32
  | 105 => 0xB6D29E9B#32
  | 106 => 0x36B0ED61#32
  | 107 => 0xB695FBC4#32
  | 108 => 0x368056F2#32
  | 109 => 0xB65DA20C#32
  | 110 => 0x3641014B#32
  | 111 => 0xB6296767#32
  | 112 => 0x3615C529#32
  | 113 => 0xB6054B76#32
  | 114 => 0x35EEB658#32
  | 115 => 0xB5D6F23A#32
  | 116 => 0x35C28A3B#32
  | 117 => 0xB5B0E6EF#32
  | 118 => 0x35A19018#32
  | 119 => 0xB5942572#32
  | 120 => 0x3588594C#32
  | 121 => 0xB57BD8F1#32
  | 122 => 0x35695670#32
  | 123 => 0xB558D5BB#32
  | 124 => 0x354A0FF9#32
  | 125 => 0xB53CCA00#32
  | 126 => 0x3530D21D#32
  | 127 => 0xB525FE56#32
  | _ => 0#32

noncomputable abbrev lit0t0_195 (i : Nat) : BitVec 32 := match i % 128 with
  | 0 => 0x351C2B08#32
  | 1 => 0xB51339CD#32
  | 2 => 0x350B1097#32
  | 3 => 0xB50398F7#32
  | 4 => 0x34F97F13#32
  | 5 => 0xB4ECE6F7#32
  | 6 => 0x34E14C49#32
  | 7 => 0xB4D69568#32
  | 8 => 0x34CCABDA#32
  | 9 => 0xB4C37BD6#32
  | 10 => 0x34BAF3E5#32
  | 11 => 0xB4B30492#32
  | 12 => 0x34ABA023#32
  | 13 => 0xB4A4BA5F#32
  | 14 => 0x349E485F#32
  | 15 => 0xB4984061#32
  | 16 => 0x349299A5#32
  | 17 => 0xB48D4C4D#32
  | 18 => 0x34885143#32
  | 19 => 0xB483A221#32
  | 20 => 0x347E723F#32
  | 21 => 0xB4762200#32
  | 22 => 0x346E49FF#32
  | 23 => 0xB466E193#32
  | 24 => 0x345FE0DA#32
  | 25 => 0xB45940A1#32
  | 26 => 0x3452FA51#32
  | 27 => 0xB44D07E6#32
  | 28 => 0x344763DA#32
  | 29 => 0xB4420919#32
  | 30 => 0x343CF2FA#32
  | 31 => 0xB4381D32#32
  | 32 => 0x343383CC#32
  | 33 => 0xB42F2322#32
  | 34 => 0x342AF7D2#32
  | 35 => 0xB426FEBD#32
  | 36 => 0x342334FF#32
  | 37 => 0xB41F97EA#32
  | 38 => 0x341C2500#32
  | 39 => 0xB418D9F0#32
  | 40 => 0x3415B495#32
  | 41 => 0xB412B2ED#32
  | 42 => 0x340FD31A#32
  | 43 => 0xB40D1360#32
  | 44 => 0x340A721F#32
  | 45 => 0xB407EDD1#32
  | 46 => 0x3405850C#32
  | 47 => 0xB403367C#32
  | 48 => 0x340100E3#32
  | 49 => 0xB3FDC62E#32
  | 50 => 0x33F9B800#32
  | 51 => 0xB3F5D532#32
  | 52 => 0x33F21BD6#32
  | 53 => 0xB3EE8A1F#32
  | 54 => 0x33EB1E5A#32
  | 55 => 0xB3E7D6EF#32
  | 56 => 0x33E4B25D#32
  | 57 => 0xB3E1AF3D#32
  | 58 => 0x33DECC38#32
  | 59 => 0xB3DC0810#32
  | 60 => 0x33D96196#32
  | 61 => 0xB3D6D7AE#32
  | 62 => 0x33D4694B#32
  | 63 => 0xB3D21572#32
  | 64 => 0x33CFDB34#32
  | 65 => 0xB3CDB9B1#32
  | 66 => 0x33CBB015#32
  | 67 => 0xB3C9BD97#32
  | 68 => 0x33C7E17D#32
  | 69 => 0xB3C61B15#32
  | 70 => 0x33C469B8#32
  | 71 => 0xB3C2CCC7#32
  | 72 => 0x33C143B0#32
  | 73 => 0xB3BFCDE6#32
  | 74 => 0x33BE6AE7#32
  | 75 => 0xB3BD1A36#32
  | 76 => 0x33BBDB61#32
  | 77 => 0xB3BAADFB#32
  | 78 => 0x33B9919E#32
  | 79 => 0xB3B885EC#32
  | 80 => 0x33B78A8A#32
  | 81 => 0xB3B69F28#32
  | 82 => 0x33B5C377#32
  | 83 => 0xB3B4F732#32
  | 84 => 0x33B43A15#32
  | 85 => 0xB3B38BE5#32
  | 86 => 0x33B2EC6A#32
  | 87 => 0xB3B25B72#32
  | 88 => 0x33B1D8CF#32
  | 89 => 0xB3B16459#32
  | 90 => 0x33B0FDEA#32
  | 91 => 0xB3B0A563#32
  | 92 => 0x33B05AA9#32
  | 93 => 0xB3B01DA5#32
  | 94 => 0x33AFEE43#32
  | 95 => 0xB3AFCC75#32
  | 96 => 0x33AFB831#32
  | 97 => 0xB3AFB170#32
  | 98 => 0x33AFB831#32
  | 99 => 0xB3AFCC75#32
  | 100 => 0x33AFEE43#32
  | 101 => 0xB3B01DA5#32
  | 102 => 0x33B05AA9#32
  | 103 => 0xB3B0A563#32
  | 104 => 0x33B0FDEA#32
  | 105 => 0xB3B16459#32
  | 106 => 0x33B1D8CF#32
  | 107 => 0xB3B25B72#32
  | 108 => 0x33B2EC6A#32
  | 109 => 0xB3B38BE5#32
  | 110 => 0x33B43A15#32
  | 111 => 0xB3B4F732#32
  | 112 => 0x33B5C377#32
  | 113 => 0xB3B69F28#32
  | 114 => 0x33B78A8A#32
  | 115 => 0xB3B885EC#32
  | 116 => 0x33B9919E#32
  | 117 => 0xB3BAADFB#32
  | 118 => 0x33BBDB61#32
  | 119 => 0xB3BD1A36#32
  | 120 => 0x33BE6AE7#32
  | 121 => 0xB3BFCDE6#32
  | 122 => 0x33C143B0#32
  | 123 => 0xB3C2CCC7#32
  | 124 => 0x33C469B8#32
  | 125 => 0xB3C61B15#32
  | 126 => 0x33C7E17D#32
  | 127 => 0xB3C9BD97#32
  | _ => 0#32

noncomputable abbrev lit0t0_196 (i : Nat) : BitVec 32 := match i % 128 with
  | 0 => 0xB3C9BD97#32
  | 1 => 0x33CBB015#32
  | 2 => 0xB3CDB9B1#32
  | 3 => 0x33CFDB34#32
  | 4 => 0xB3D21572#32
  | 5 => 0x33D4694B#32
  | 6 => 0xB3D6D7AE#32
  | 7 => 0x33D96196#32
  | 8 => 0xB3DC0810#32
  | 9 => 0x33DECC38#32
  | 10 => 0xB3E1AF3D#32
  | 11 => 0x33E4B25D#32
  | 12 => 0xB3E7D6EF#32
  | 13 => 0x33EB1E5A#32
  | 14 => 0xB3EE8A1F#32
  | 15 => 0x33F21BD6#32
  | 16 => 0xB3F5D532#32
  | 17 => 0x33F9B800#32
  | 18 => 0xB3FDC62E#32
  | 19 => 0x340100E3#32
  | 20 => 0xB403367C#32
  | 21 => 0x3405850C#32
  | 22 => 0xB407EDD1#32
  | 23 => 0x340A721F#32
  | 24 => 0xB40D1360#32
  | 25 => 0x340FD31A#32
  | 26 => 0xB412B2ED#32
  | 27 => 0x3415B495#32
  | 28 => 0xB418D9F0#32
  | 29 => 0x341C2500#32
  | 30 => 0xB41F97EA#32
  | 31 => 0x342334FF#32
  | 32 => 0xB426FEBD#32
  | 33 => 0x342AF7D2#32
  | 34 => 0xB42F2322#32
  | 35 => 0x343383CC#32
  | 36 => 0xB4381D32#32
  | 37 => 0x343CF2FA#32
  | 38 => 0xB4420919#32
  | 39 => 0x344763DA#32
  | 40 => 0xB44D07E6#32
  | 41 => 0x3452FA51#32
  | 42 => 0xB45940A1#32
  | 43 => 0x345FE0DA#32
  | 44 => 0xB466E193#32
  | 45 => 0x346E49FF#32
  | 46 => 0xB4762200#32
  | 47 => 0x347E723F#32
  | 48 => 0xB483A221#32
  | 49 => 0x34885143#32
  | 50 => 0xB48D4C4D#32
  | 51 => 0x349299A5#32
  | 52 => 0xB4984061#32
  | 53 => 0x349E485F#32
  | 54 => 0xB4A4BA5F#32
  | 55 => 0x34ABA023#32
  | 56 => 0xB4B30492#32
  | 57 => 0x34BAF3E5#32
  | 58 => 0xB4C37BD6#32
  | 59 => 0x34CCABDA#32
  | 60 => 0xB4D69568#32
  | 61 => 0x34E14C49#32
  | 62 => 0xB4ECE6F7#32
  | 63 => 0x34F97F13#32
  | 64 => 0xB50398F7#32
  | 65 => 0x350B1097#32
  | 66 => 0xB51339CD#32
  | 67 => 0x351C2B08#32
  | 68 => 0xB525FE56#32
  | 69 => 0x3530D21D#32
  | 70 => 0xB53CCA00#32
  | 71 => 0x354A0FF9#32
  | 72 => 0xB558D5BB#32
  | 73 => 0x35695670#32
  | 74 => 0xB57BD8F1#32
  | 75 => 0x3588594C#32
  | 76 => 0xB5942572#32
  | 77 => 0x35A19018#32
  | 78 => 0xB5B0E6EF#32
  | 79 => 0x35C28A3B#32
  | 80 => 0xB5D6F23A#32
  | 81 => 0x35EEB658#32
  | 82 => 0xB6054B76#32
  | 83 => 0x3615C529#32
  | 84 => 0xB6296767#32
  | 85 => 0x3641014B#32
  | 86 => 0xB65DA20C#32
  | 87 => 0x368056F2#32
  | 88 => 0xB695FBC4#32
  | 89 => 0x36B0ED61#32
  | 90 => 0xB6D29E9B#32
  | 91 => 0x36FFBDB2#32
  | 92 => 0xB692EE32#32
  | 93 => 0x391EBB1A#32
  | 94 => 0x3B12D0DF#32
  | 95 => 0x3CA0086D#32
  | 96 => 0x3DBAD58B#32
  | 97 => 0x3E6BB748#32
  | 98 => 0x3EA069FE#32
  | 99 => 0x3E6BB748#32
  | 100 => 0x3DBAD58B#32
  | 101 => 0x3CA0086D#32
  | 102 => 0x3B12D0DF#32
  | 103 => 0x391EBB1A#32
  | 104 => 0xB692EE32#32
  | 105 => 0x36FFBDB2#32
  | 106 => 0xB6D29E9B#32
  | 107 => 0x36B0ED61#32
  | 108 => 0xB695FBC4#32
  | 109 => 0x368056F2#32
  | 110 => 0xB65DA20C#32
  | 111 => 0x3641014B#32
  | 112 => 0xB6296767#32
  | 113 => 0x3615C529#32
  | 114 => 0xB6054B76#32
  | 115 => 0x35EEB658#32
  | 116 => 0xB5D6F23A#32
  | 117 => 0x35C28A3B#32
  | 118 => 0xB5B0E6EF#32
  | 119 => 0x35A19018#32
  | 120 => 0xB5942572#32
  | 121 => 0x3588594C#32
  | 122 => 0xB57BD8F1#32
  | 123 => 0x35695670#32
  | 124 => 0xB558D5BB#32
  | 125 => 0x354A0FF9#32
  | 126 => 0xB53CCA00#32
  | 127 => 0x3530D21D#32
  | _ => 0#32

noncomputable abbrev lit0t0_197 (i : Nat) : BitVec 32 := match i % 128 with
  | 0 => 0xB525FE56#32
  | 1 => 0x351C2B08#32
  | 2 => 0xB51339CD#32
  | 3 => 0x350B1097#32
  | 4 => 0xB50398F7#32
  | 5 => 0x34F97F13#32
  | 6 => 0xB4ECE6F7#32
  | 7 => 0x34E14C49#32
  | 8 => 0xB4D69568#32
  | 9 => 0x34CCABDA#32
  | 10 => 0xB4C37BD6#32
  | 11 => 0x34BAF3E5#32
  | 12 => 0xB4B30492#32
  | 13 => 0x34ABA023#32
  | 14 => 0xB4A4BA5F#32
  | 15 => 0x349E485F#32
  | 16 => 0xB4984061#32
  | 17 => 0x349299A5#32
  | 18 => 0xB48D4C4D#32
  | 19 => 0x34885143#32
  | 20 => 0xB483A221#32
  | 21 => 0x347E723F#32
  | 22 => 0xB4762200#32
  | 23 => 0x346E49FF#32
  | 24 => 0xB466E193#32
  | 25 => 0x345FE0DA#32
  | 26 => 0xB45940A1#32
  | 27 => 0x3452FA51#32
  | 28 => 0xB44D07E6#32
  | 29 => 0x344763DA#32
  | 30 => 0xB4420919#32
  | 31 => 0x343CF2FA#32
  | 32 => 0xB4381D32#32
  | 33 => 0x343383CC#32
  | 34 => 0xB42F2322#32
  | 35 => 0x342AF7D2#32
  | 36 => 0xB426FEBD#32
  | 37 => 0x342334FF#32
  | 38 => 0xB41F97EA#32
  | 39 => 0x341C2500#32
  | 40 => 0xB418D9F0#32
  | 41 => 0x3415B495#32
  | 42 => 0xB412B2ED#32
  | 43 => 0x340FD31A#32
  | 44 => 0xB40D1360#32
  | 45 => 0x340A721F#32
  | 46 => 0xB407EDD1#32
  | 47 => 0x3405850C#32
  | 48 => 0xB403367C#32
  | 49 => 0x340100E3#32
  | 50 => 0xB3FDC62E#32
  | 51 => 0x33F9B800#32
  | 52 => 0xB3F5D532#32
  | 53 => 0x33F21BD6#32
  | 54 => 0xB3EE8A1F#32
  | 55 => 0x33EB1E5A#32
  | 56 => 0xB3E7D6EF#32
  | 57 => 0x33E4B25D#32
  | 58 => 0xB3E1AF3D#32
  | 59 => 0x33DECC38#32
  | 60 => 0xB3DC0810#32
  | 61 => 0x33D96196#32
  | 62 => 0xB3D6D7AE#32
  | 63 => 0x33D4694B#32
  | 64 => 0xB3D21572#32
  | 65 => 0x33CFDB34#32
  | 66 => 0xB3CDB9B1#32
  | 67 => 0x33CBB015#32
  | 68 => 0xB3C9BD97#32
  | 69 => 0x33C7E17D#32
  | 70 => 0xB3C61B15#32
  | 71 => 0x33C469B8#32
  | 72 => 0xB3C2CCC7#32
  | 73 => 0x33C143B0#32
  | 74 => 0xB3BFCDE6#32
  | 75 => 0x33BE6AE7#32
  | 76 => 0xB3BD1A36#32
  | 77 => 0x33BBDB61#32
  | 78 => 0xB3BAADFB#32
  | 79 => 0x33B9919E#32
  | 80 => 0xB3B885EC#32
  | 81 => 0x33B78A8A#32
  | 82 => 0xB3B69F28#32
  | 83 => 0x33B5C377#32
  | 84 => 0xB3B4F732#32
  | 85 => 0x33B43A15#32
  | 86 => 0xB3B38BE5#32
  | 87 => 0x33B2EC6A#32
  | 88 => 0xB3B25B72#32
  | 89 => 0x33B1D8CF#32
  | 90 => 0xB3B16459#32
  | 91 => 0x33B0FDEA#32
  | 92 => 0xB3B0A563#32
  | 93 => 0x33B05AA9#32
  | 94 => 0xB3B01DA5#32
  | 95 => 0x33AFEE43#32
  | 96 => 0xB3AFCC75#32
  | 97 => 0x33AFB831#32
  | 98 => 0xB3AFB170#32
  | 99 => 0x33AFB831#32
  | 100 => 0xB3AFCC75#32
  | 101 => 0x33AFEE43#32
  | 102 => 0xB3B01DA5#32
  | 103 => 0x33B05AA9#32
  | 104 => 0xB3B0A563#32
  | 105 => 0x33B0FDEA#32
  | 106 => 0xB3B16459#32
  | 107 => 0x33B1D8CF#32
  | 108 => 0xB3B25B72#32
  | 109 => 0x33B2EC6A#32
  | 110 => 0xB3B38BE5#32
  | 111 => 0x33B43A15#32
  | 112 => 0xB3B4F732#32
  | 113 => 0x33B5C377#32
  | 114 => 0xB3B69F28#32
  | 115 => 0x33B78A8A#32
  | 116 => 0xB3B885EC#32
  | 117 => 0x33B9919E#32
  | 118 => 0xB3BAADFB#32
  | 119 => 0x33BBDB61#32
  | 120 => 0xB3BD1A36#32
  | 121 => 0x33BE6AE7#32
  | 122 => 0xB3BFCDE6#32
  | 123 => 0x33C143B0#32
  | 124 => 0xB3C2CCC7#32
  | 125 => 0x33C469B8#32
  | 126 => 0xB3C61B15#32
  | 127 => 0x33C7E17D#32
  | _ => 0#32

noncomputable abbrev lit0t0_198 (i : Nat) : BitVec 32 := match i % 128 with
  | 0 => 0x33C7E17D#32
  | 1 => 0xB3C9BD97#32
  | 2 => 0x33CBB015#32
  | 3 => 0xB3CDB9B1#32
  | 4 => 0x33CFDB34#32
  | 5 => 0xB3D21572#32
  | 6 => 0x33D4694B#32
  | 7 => 0xB3D6D7AE#32
  | 8 => 0x33D96196#32
  | 9 => 0xB3DC0810#32
  | 10 => 0x33DECC38#32
  | 11 => 0xB3E1AF3D#32
  | 12 => 0x33E4B25D#32
  | 13 => 0xB3E7D6EF#32
  | 14 => 0x33EB1E5A#32
  | 15 => 0xB3EE8A1F#32
  | 16 => 0x33F21BD6#32
  | 17 => 0xB3F5D532#32
  | 18 => 0x33F9B800#32
  | 19 => 0xB3FDC62E#32
  | 20 => 0x340100E3#32
  | 21 => 0xB403367C#32
  | 22 => 0x3405850C#32
  | 23 => 0xB407EDD1#32
  | 24 => 0x340A721F#32
  | 25 => 0xB40D1360#32
  | 26 => 0x340FD31A#32
  | 27 => 0xB412B2ED#32
  | 28 => 0x3415B495#32
  | 29 => 0xB418D9F0#32
  | 30 => 0x341C2500#32
  | 31 => 0xB41F97EA#32
  | 32 => 0x342334FF#32
  | 33 => 0xB426FEBD#32
  | 34 => 0x342AF7D2#32
  | 35 => 0xB42F2322#32
  | 36 => 0x343383CC#32
  | 37 => 0xB4381D32#32
  | 38 => 0x343CF2FA#32
  | 39 => 0xB4420919#32
  | 40 => 0x344763DA#32
  | 41 => 0xB44D07E6#32
  | 42 => 0x3452FA51#32
  | 43 => 0xB45940A1#32
  | 44 => 0x345FE0DA#32
  | 45 => 0xB466E193#32
  | 46 => 0x346E49FF#32
  | 47 => 0xB4762200#32
  | 48 => 0x347E723F#32
  | 49 => 0xB483A221#32
  | 50 => 0x34885143#32
  | 51 => 0xB48D4C4D#32
  | 52 => 0x349299A5#32
  | 53 => 0xB4984061#32
  | 54 => 0x349E485F#32
  | 55 => 0xB4A4BA5F#32
  | 56 => 0x34ABA023#32
  | 57 => 0xB4B30492#32
  | 58 => 0x34BAF3E5#32
  | 59 => 0xB4C37BD6#32
  | 60 => 0x34CCABDA#32
  | 61 => 0xB4D69568#32
  | 62 => 0x34E14C49#32
  | 63 => 0xB4ECE6F7#32
  | 64 => 0x34F97F13#32
  | 65 => 0xB50398F7#32
  | 66 => 0x350B1097#32
  | 67 => 0xB51339CD#32
  | 68 => 0x351C2B08#32
  | 69 => 0xB525FE56#32
  | 70 => 0x3530D21D#32
  | 71 => 0xB53CCA00#32
  | 72 => 0x354A0FF9#32
  | 73 => 0xB558D5BB#32
  | 74 => 0x35695670#32
  | 75 => 0xB57BD8F1#32
  | 76 => 0x3588594C#32
  | 77 => 0xB5942572#32
  | 78 => 0x35A19018#32
  | 79 => 0xB5B0E6EF#32
  | 80 => 0x35C28A3B#32
  | 81 => 0xB5D6F23A#32
  | 82 => 0x35EEB658#32
  | 83 => 0xB6054B76#32
  | 84 => 0x3615C529#32
  | 85 => 0xB6296767#32
  | 86 => 0x3641014B#32
  | 87 => 0xB65DA20C#32
  | 88 => 0x368056F2#32
  | 89 => 0xB695FBC4#32
  | 90 => 0x36B0ED61#32
  | 91 => 0xB6D29E9B#32
  | 92 => 0x36FFBDB2#32
  | 93 => 0xB692EE32#32
  | 94 => 0x391EBB1A#32
  | 95 => 0x3B12D0DF#32
  | 96 => 0x3CA0086D#32
  | 97 => 0x3DBAD58B#32
  | 98 => 0x3E6BB748#32
  | 99 => 0x3EA069FE#32
  | 100 => 0x3E6BB748#32
  | 101 => 0x3DBAD58B#32
  | 102 => 0x3CA0086D#32
  | 103 => 0x3B12D0DF#32
  | 104 => 0x391EBB1A#32
  | 105 => 0xB692EE32#32
  | 106 => 0x36FFBDB2#32
  | 107 => 0xB6D29E9B#32
  | 108 => 0x36B0ED61#32
  | 109 => 0xB695FBC4#32
  | 110 => 0x368056F2#32
  | 111 => 0xB65DA20C#32
  | 112 => 0x3641014B#32
  | 113 => 0xB6296767#32
  | 114 => 0x3615C529#32
  | 115 => 0xB6054B76#32
  | 116 => 0x35EEB658#32
  | 117 => 0xB5D6F23A#32
  | 118 => 0x35C28A3B#32
  | 119 => 0xB5B0E6EF#32
  | 120 => 0x35A19018#32
  | 121 => 0xB5942572#32
  | 122 => 0x3588594C#32
  | 123 => 0xB57BD8F1#32
  | 124 => 0x35695670#32
  | 125 => 0xB558D5BB#32
  | 126 => 0x354A0FF9#32
  | 127 => 0xB53CCA00#32
  | _ => 0#32

noncomputable abbrev lit0t0_199 (i : Nat) : BitVec 32 := match i % 128 with
  | 0 => 0x3530D21D#32
  | 1 => 0xB525FE56#32
  | 2 => 0x351C2B08#32
  | 3 => 0xB51339CD#32
  | 4 => 0x350B1097#32
  | 5 => 0xB50398F7#32
  | 6 => 0x34F97F13#32
  | 7 => 0xB4ECE6F7#32
  | 8 => 0x34E14C49#32
  | 9 => 0xB4D69568#32
  | 10 => 0x34CCABDA#32
  | 11 => 0xB4C37BD6#32
  | 12 => 0x34BAF3E5#32
  | 13 => 0xB4B30492#32
  | 14 => 0x34ABA023#32
  | 15 => 0xB4A4BA5F#32
  | 16 => 0x349E485F#32
  | 17 => 0xB4984061#32
  | 18 => 0x349299A5#32
  | 19 => 0xB48D4C4D#32
  | 20 => 0x34885142#32
  | 21 => 0xB483A221#32
  | 22 => 0x347E723F#32
  | 23 => 0xB4762200#32
  | 24 => 0x346E49FF#32
  | 25 => 0xB466E193#32
  | 26 => 0x345FE0DA#32
  | 27 => 0xB45940A1#32
  | 28 => 0x3452FA51#32
  | 29 => 0xB44D07E6#32
  | 30 => 0x344763DA#32
  | 31 => 0xB4420919#32
  | 32 => 0x343CF2FA#32
  | 33 => 0xB4381D32#32
  | 34 => 0x343383CC#32
  | 35 => 0xB42F2322#32
  | 36 => 0x342AF7D2#32
  | 37 => 0xB426FEBD#32
  | 38 => 0x342334FF#32
  | 39 => 0xB41F97EA#32
  | 40 => 0x341C2500#32
  | 41 => 0xB418D9F0#32
  | 42 => 0x3415B495#32
  | 43 => 0xB412B2ED#32
  | 44 => 0x340FD31A#32
  | 45 => 0xB40D1360#32
  | 46 => 0x340A721F#32
  | 47 => 0xB407EDD1#32
  | 48 => 0x3405850C#32
  | 49 => 0xB403367C#32
  | 50 => 0x340100E3#32
  | 51 => 0xB3FDC62E#32
  | 52 => 0x33F9B800#32
  | 53 => 0xB3F5D532#32
  | 54 => 0x33F21BD6#32
  | 55 => 0xB3EE8A1F#32
  | 56 => 0x33EB1E5A#32
  | 57 => 0xB3E7D6EF#32
  | 58 => 0x33E4B25D#32
  | 59 => 0xB3E1AF3D#32
  | 60 => 0x33DECC38#32
  | 61 => 0xB3DC0810#32
  | 62 => 0x33D96196#32
  | 63 => 0xB3D6D7AE#32
  | 64 => 0x33D4694B#32
  | 65 => 0xB3D21572#32
  | 66 => 0x33CFDB34#32
  | 67 => 0xB3CDB9B1#32
  | 68 => 0x33CBB015#32
  | 69 => 0xB3C9BD97#32
  | 70 => 0x33C7E17D#32
  | 71 => 0xB3C61B15#32
  | 72 => 0x33C469B8#32
  | 73 => 0xB3C2CCC7#32
  | 74 => 0x33C143B0#32
  | 75 => 0xB3BFCDE6#32
  | 76 => 0x33BE6AE7#32
  | 77 => 0xB3BD1A36#32
  | 78 => 0x33BBDB61#32
  | 79 => 0xB3BAADFB#32
  | 80 => 0x33B9919E#32
  | 81 => 0xB3B885EC#32
  | 82 => 0x33B78A8A#32
  | 83 => 0xB3B69F28#32
  | 84 => 0x33B5C377#32
  | 85 => 0xB3B4F732#32
  | 86 => 0x33B43A15#32
  | 87 => 0xB3B38BE5#32
  | 88 => 0x33B2EC6A#32
  | 89 => 0xB3B25B72#32
  | 90 => 0x33B1D8CF#32
  | 91 => 0xB3B16459#32
  | 92 => 0x33B0FDEA#32
  | 93 => 0xB3B0A563#32
  | 94 => 0x33B05AA9#32
  | 95 => 0xB3B01DA5#32
  | 96 => 0x33AFEE43#32
  | 97 => 0xB3AFCC75#32
  | 98 => 0x33AFB831#32
  | 99 => 0xB3AFB170#32
  | 100 => 0x33AFB831#32
  | 101 => 0xB3AFCC75#32
  | 102 => 0x33AFEE43#32
  | 103 => 0xB3B01DA5#32
  | 104 => 0x33B05AA9#32
  | 105 => 0xB3B0A563#32
  | 106 => 0x33B0FDEA#32
  | 107 => 0xB3B16459#32
  | 108 => 0x33B1D8CF#32
  | 109 => 0xB3B25B72#32
  | 110 => 0x33B2EC6A#32
  | 111 => 0xB3B38BE5#32
  | 112 => 0x33B43A15#32
  | 113 => 0xB3B4F732#32
  | 114 => 0x33B5C377#32
  | 115 => 0xB3B69F28#32
  | 116 => 0x33B78A8A#32
  | 117 => 0xB3B885EC#32
  | 118 => 0x33B9919E#32
  | 119 => 0xB3BAADFB#32
  | 120 => 0x33BBDB61#32
  | 121 => 0xB3BD1A36#32
  | 122 => 0x33BE6AE7#32
  | 123 => 0xB3BFCDE6#32
  | 124 => 0x33C143B0#32
  | 125 => 0xB3C2CCC7#32
  | 126 => 0x33C469B8#32
  | 127 => 0xB3C61B15#32
  | _ => 0#32

noncomputable abbrev lit0t0_200 (i : Nat) : BitVec 32 := match i % 128 with
  | 0 => 0xB3C61B15#32
  | 1 => 0x33C7E17D#32
  | 2 => 0xB3C9BD97#32
  | 3 => 0x33CBB015#32
  | 4 => 0xB3CDB9B1#32
  | 5 => 0x33CFDB34#32
  | 6 => 0xB3D21572#32
  | 7 => 0x33D4694B#32
  | 8 => 0xB3D6D7AE#32
  | 9 => 0x33D96196#32
  | 10 => 0xB3DC0810#32
  | 11 => 0x33DECC38#32
  | 12 => 0xB3E1AF3D#32
  | 13 => 0x33E4B25D#32
  | 14 => 0xB3E7D6EF#32
  | 15 => 0x33EB1E5A#32
  | 16 => 0xB3EE8A1F#32
  | 17 => 0x33F21BD6#32
  | 18 => 0xB3F5D532#32
  | 19 => 0x33F9B800#32
  | 20 => 0xB3FDC62E#32
  | 21 => 0x340100E3#32
  | 22 => 0xB403367C#32
  | 23 => 0x3405850C#32
  | 24 => 0xB407EDD1#32
  | 25 => 0x340A721F#32
  | 26 => 0xB40D1360#32
  | 27 => 0x340FD31A#32
  | 28 => 0xB412B2ED#32
  | 29 => 0x3415B495#32
  | 30 => 0xB418D9F0#32
  | 31 => 0x341C2500#32
  | 32 => 0xB41F97EA#32
  | 33 => 0x342334FF#32
  | 34 => 0xB426FEBD#32
  | 35 => 0x342AF7D2#32
  | 36 => 0xB42F2322#32
  | 37 => 0x343383CC#32
  | 38 => 0xB4381D32#32
  | 39 => 0x343CF2FA#32
  | 40 => 0xB4420919#32
  | 41 => 0x344763DA#32
  | 42 => 0xB44D07E6#32
  | 43 => 0x3452FA51#32
  | 44 => 0xB45940A1#32
  | 45 => 0x345FE0DA#32
  | 46 => 0xB466E193#32
  | 47 => 0x346E49FF#32
  | 48 => 0xB4762200#32
  | 49 => 0x347E723F#32
  | 50 => 0xB483A221#32
  | 51 => 0x34885142#32
  | 52 => 0xB48D4C4D#32
  | 53 => 0x349299A5#32
  | 54 => 0xB4984061#32
  | 55 => 0x349E485F#32
  | 56 => 0xB4A4BA5F#32
  | 57 => 0x34ABA023#32
  | 58 => 0xB4B30492#32
  | 59 => 0x34BAF3E5#32
  | 60 => 0xB4C37BD6#32
  | 61 => 0x34CCABDA#32
  | 62 => 0xB4D69568#32
  | 63 => 0x34E14C49#32
  | 64 => 0xB4ECE6F7#32
  | 65 => 0x34F97F13#32
  | 66 => 0xB50398F7#32
  | 67 => 0x350B1097#32
  | 68 => 0xB51339CD#32
  | 69 => 0x351C2B08#32
  | 70 => 0xB525FE56#32
  | 71 => 0x3530D21D#32
  | 72 => 0xB53CCA00#32
  | 73 => 0x354A0FF9#32
  | 74 => 0xB558D5BB#32
  | 75 => 0x35695670#32
  | 76 => 0xB57BD8F1#32
  | 77 => 0x3588594C#32
  | 78 => 0xB5942572#32
  | 79 => 0x35A19018#32
  | 80 => 0xB5B0E6EF#32
  | 81 => 0x35C28A3B#32
  | 82 => 0xB5D6F23A#32
  | 83 => 0x35EEB658#32
  | 84 => 0xB6054B76#32
  | 85 => 0x3615C529#32
  | 86 => 0xB6296767#32
  | 87 => 0x3641014B#32
  | 88 => 0xB65DA20C#32
  | 89 => 0x368056F2#32
  | 90 => 0xB695FBC4#32
  | 91 => 0x36B0ED61#32
  | 92 => 0xB6D29E9B#32
  | 93 => 0x36FFBDB2#32
  | 94 => 0xB692EE32#32
  | 95 => 0x391EBB1A#32
  | 96 => 0x3B12D0DF#32
  | 97 => 0x3CA0086D#32
  | 98 => 0x3DBAD58B#32
  | 99 => 0x3E6BB748#32
  | 100 => 0x3EA069FE#32
  | 101 => 0x3E6BB748#32
  | 102 => 0x3DBAD58B#32
  | 103 => 0x3CA0086D#32
  | 104 => 0x3B12D0DF#32
  | 105 => 0x391EBB1A#32
  | 106 => 0xB692EE32#32
  | 107 => 0x36FFBDB2#32
  | 108 => 0xB6D29E9B#32
  | 109 => 0x36B0ED61#32
  | 110 => 0xB695FBC4#32
  | 111 => 0x368056F2#32
  | 112 => 0xB65DA20C#32
  | 113 => 0x3641014B#32
  | 114 => 0xB6296767#32
  | 115 => 0x3615C529#32
  | 116 => 0xB6054B76#32
  | 117 => 0x35EEB658#32
  | 118 => 0xB5D6F23A#32
  | 119 => 0x35C28A3B#32
  | 120 => 0xB5B0E6EF#32
  | 121 => 0x35A19018#32
  | 122 => 0xB5942572#32
  | 123 => 0x3588594C#32
  | 124 => 0xB57BD8F1#32
  | 125 => 0x35695670#32
  | 126 => 0xB558D5BB#32
  | 127 => 0x354A0FF9#32
  | _ => 0#32

noncomputable abbrev lit0t0_201 (i : Nat) : BitVec 32 := match i % 128 with
  | 0 => 0xB53CCA00#32
  | 1 => 0x3530D21D#32
  | 2 => 0xB525FE56#32
  | 3 => 0x351C2B08#32
  | 4 => 0xB51339CD#32
  | 5 => 0x350B1097#32
  | 6 => 0xB50398F7#32
  | 7 => 0x34F97F13#32
  | 8 => 0xB4ECE6F7#32
  | 9 => 0x34E14C49#32
  | 10 => 0xB4D69568#32
  | 11 => 0x34CCABDA#32
  | 12 => 0xB4C37BD6#32
  | 13 => 0x34BAF3E5#32
  | 14 => 0xB4B30492#32
  | 15 => 0x34ABA023#32
  | 16 => 0xB4A4BA5F#32
  | 17 => 0x349E485F#32
  | 18 => 0xB4984061#32
  | 19 => 0x349299A5#32
  | 20 => 0xB48D4C4D#32
  | 21 => 0x34885143#32
  | 22 => 0xB483A221#32
  | 23 => 0x347E723F#32
  | 24 => 0xB4762200#32
  | 25 => 0x346E49FF#32
  | 26 => 0xB466E193#32
  | 27 => 0x345FE0DA#32
  | 28 => 0xB45940A1#32
  | 29 => 0x3452FA51#32
  | 30 => 0xB44D07E6#32
  | 31 => 0x344763DA#32
  | 32 => 0xB4420919#32
  | 33 => 0x343CF2FA#32
  | 34 => 0xB4381D32#32
  | 35 => 0x343383CC#32
  | 36 => 0xB42F2322#32
  | 37 => 0x342AF7D2#32
  | 38 => 0xB426FEBD#32
  | 39 => 0x342334FF#32
  | 40 => 0xB41F97EA#32
  | 41 => 0x341C2500#32
  | 42 => 0xB418D9F0#32
  | 43 => 0x3415B495#32
  | 44 => 0xB412B2ED#32
  | 45 => 0x340FD31A#32
  | 46 => 0xB40D1360#32
  | 47 => 0x340A721F#32
  | 48 => 0xB407EDD1#32
  | 49 => 0x3405850C#32
  | 50 => 0xB403367C#32
  | 51 => 0x340100E3#32
  | 52 => 0xB3FDC62E#32
  | 53 => 0x33F9B800#32
  | 54 => 0xB3F5D532#32
  | 55 => 0x33F21BD6#32
  | 56 => 0xB3EE8A1F#32
  | 57 => 0x33EB1E5A#32
  | 58 => 0xB3E7D6EF#32
  | 59 => 0x33E4B25D#32
  | 60 => 0xB3E1AF3D#32
  | 61 => 0x33DECC38#32
  | 62 => 0xB3DC0810#32
  | 63 => 0x33D96196#32
  | 64 => 0xB3D6D7AE#32
  | 65 => 0x33D4694B#32
  | 66 => 0xB3D21572#32
  | 67 => 0x33CFDB34#32
  | 68 => 0xB3CDB9B1#32
  | 69 => 0x33CBB015#32
  | 70 => 0xB3C9BD97#32
  | 71 => 0x33C7E17D#32
  | 72 => 0xB3C61B15#32
  | 73 => 0x33C469B8#32
  | 74 => 0xB3C2CCC7#32
  | 75 => 0x33C143B0#32
  | 76 => 0xB3BFCDE6#32
  | 77 => 0x33BE6AE7#32
  | 78 => 0xB3BD1A36#32
  | 79 => 0x33BBDB61#32
  | 80 => 0xB3BAADFB#32
  | 81 => 0x33B9919E#32
  | 82 => 0xB3B885EC#32
  | 83 => 0x33B78A8A#32
  | 84 => 0xB3B69F28#32
  | 85 => 0x33B5C377#32
  | 86 => 0xB3B4F732#32
  | 87 => 0x33B43A15#32
  | 88 => 0xB3B38BE5#32
  | 89 => 0x33B2EC6A#32
  | 90 => 0xB3B25B72#32
  | 91 => 0x33B1D8CF#32
  | 92 => 0xB3B16459#32
  | 93 => 0x33B0FDEA#32
  | 94 => 0xB3B0A563#32
  | 95 => 0x33B05AA9#32
  | 96 => 0xB3B01DA5#32
  | 97 => 0x33AFEE43#32
  | 98 => 0xB3AFCC75#32
  | 99 => 0x33AFB831#32
  | 100 => 0xB3AFB170#32
  | 101 => 0x33AFB831#32
  | 102 => 0xB3AFCC75#32
  | 103 => 0x33AFEE43#32
  | 104 => 0xB3B01DA5#32
  | 105 => 0x33B05AA9#32
  | 106 => 0xB3B0A563#32
  | 107 => 0x33B0FDEA#32
  | 108 => 0xB3B16459#32
  | 109 => 0x33B1D8CF#32
  | 110 => 0xB3B25B72#32
  | 111 => 0x33B2EC6A#32
  | 112 => 0xB3B38BE5#32
  | 113 => 0x33B43A15#32
  | 114 => 0xB3B4F732#32
  | 115 => 0x33B5C377#32
  | 116 => 0xB3B69F28#32
  | 117 => 0x33B78A8A#32
  | 118 => 0xB3B885EC#32
  | 119 => 0x33B9919E#32
  | 120 => 0xB3BAADFB#32
  | 121 => 0x33BBDB61#32
  | 122 => 0xB3BD1A36#32
  | 123 => 0x33BE6AE7#32
  | 124 => 0xB3BFCDE6#32
  | 125 => 0x33C143B0#32
  | 126 => 0xB3C2CCC7#32
  | 127 => 0x33C469B8#32
  | _ => 0#32

noncomputable abbrev lit0t0_202 (i : Nat) : BitVec 32 := match i % 128 with
  | 0 => 0x33C469B8#32
  | 1 => 0xB3C61B15#32
  | 2 => 0x33C7E17D#32
  | 3 => 0xB3C9BD97#32
  | 4 => 0x33CBB015#32
  | 5 => 0xB3CDB9B1#32
  | 6 => 0x33CFDB34#32
  | 7 => 0xB3D21572#32
  | 8 => 0x33D4694B#32
  | 9 => 0xB3D6D7AE#32
  | 10 => 0x33D96196#32
  | 11 => 0xB3DC0810#32
  | 12 => 0x33DECC38#32
  | 13 => 0xB3E1AF3D#32
  | 14 => 0x33E4B25D#32
  | 15 => 0xB3E7D6EF#32
  | 16 => 0x33EB1E5A#32
  | 17 => 0xB3EE8A1F#32
  | 18 => 0x33F21BD6#32
  | 19 => 0xB3F5D532#32
  | 20 => 0x33F9B800#32
  | 21 => 0xB3FDC62E#32
  | 22 => 0x340100E3#32
  | 23 => 0xB403367C#32
  | 24 => 0x3405850C#32
  | 25 => 0xB407EDD1#32
  | 26 => 0x340A721F#32
  | 27 => 0xB40D1360#32
  | 28 => 0x340FD31A#32
  | 29 => 0xB412B2ED#32
  | 30 => 0x3415B495#32
  | 31 => 0xB418D9F0#32
  | 32 => 0x341C2500#32
  | 33 => 0xB41F97EA#32
  | 34 => 0x342334FF#32
  | 35 => 0xB426FEBD#32
  | 36 => 0x342AF7D2#32
  | 37 => 0xB42F2322#32
  | 38 => 0x343383CC#32
  | 39 => 0xB4381D32#32
  | 40 => 0x343CF2FA#32
  | 41 => 0xB4420919#32
  | 42 => 0x344763DA#32
  | 43 => 0xB44D07E6#32
  | 44 => 0x3452FA51#32
  | 45 => 0xB45940A1#32
  | 46 => 0x345FE0DA#32
  | 47 => 0xB466E193#32
  | 48 => 0x346E49FF#32
  | 49 => 0xB4762200#32
  | 50 => 0x347E723F#32
  | 51 => 0xB483A221#32
  | 52 => 0x34885142#32
  | 53 => 0xB48D4C4D#32
  | 54 => 0x349299A5#32
  | 55 => 0xB4984061#32
  | 56 => 0x349E485F#32
  | 57 => 0xB4A4BA5F#32
  | 58 => 0x34ABA023#32
  | 59 => 0xB4B30492#32
  | 60 => 0x34BAF3E5#32
  | 61 => 0xB4C37BD6#32
  | 62 => 0x34CCABDA#32
  | 63 => 0xB4D69568#32
  | 64 => 0x34E14C49#32
  | 65 => 0xB4ECE6F7#32
  | 66 => 0x34F97F13#32
  | 67 => 0xB50398F7#32
  | 68 => 0x350B1097#32
  | 69 => 0xB51339CD#32
  | 70 => 0x351C2B08#32
  | 71 => 0xB525FE56#32
  | 72 => 0x3530D21D#32
  | 73 => 0xB53CCA00#32
  | 74 => 0x354A0FF9#32
  | 75 => 0xB558D5BB#32
  | 76 => 0x35695670#32
  | 77 => 0xB57BD8F1#32
  | 78 => 0x3588594C#32
  | 79 => 0xB5942572#32
  | 80 => 0x35A19018#32
  | 81 => 0xB5B0E6EF#32
  | 82 => 0x35C28A3B#32
  | 83 => 0xB5D6F23A#32
  | 84 => 0x35EEB658#32
  | 85 => 0xB6054B76#32
  | 86 => 0x3615C529#32
  | 87 => 0xB6296767#32
  | 88 => 0x3641014B#32
  | 89 => 0xB65DA20C#32
  | 90 => 0x368056F2#32
  | 91 => 0xB695FBC4#32
  | 92 => 0x36B0ED61#32
  | 93 => 0xB6D29E9B#32
  | 94 => 0x36FFBDB2#32
  | 95 => 0xB692EE32#32
  | 96 => 0x391EBB1A#32
  | 97 => 0x3B12D0DF#32
  | 98 => 0x3CA0086D#32
  | 99 => 0x3DBAD58B#32
  | 100 => 0x3E6BB748#32
  | 101 => 0x3EA069FE#32
  | 102 => 0x3E6BB748#32
  | 103 => 0x3DBAD58B#32
  | 104 => 0x3CA0086D#32
  | 105 => 0x3B12D0DF#32
  | 106 => 0x391EBB1A#32
  | 107 => 0xB692EE32#32
  | 108 => 0x36FFBDB2#32
  | 109 => 0xB6D29E9B#32
  | 110 => 0x36B0ED61#32
  | 111 => 0xB695FBC4#32
  | 112 => 0x368056F2#32
  | 113 => 0xB65DA20C#32
  | 114 => 0x3641014B#32
  | 115 => 0xB6296767#32
  | 116 => 0x3615C529#32
  | 117 => 0xB6054B76#32
  | 118 => 0x35EEB658#32
  | 119 => 0xB5D6F23A#32
  | 120 => 0x35C28A3B#32
  | 121 => 0xB5B0E6EF#32
  | 122 => 0x35A19018#32
  | 123 => 0xB5942572#32
  | 124 => 0x3588594C#32
  | 125 => 0xB57BD8F1#32
  | 126 => 0x35695670#32
  | 127 => 0xB558D5BB#32
  | _ => 0#32

noncomputable abbrev lit0t0_203 (i : Nat) : BitVec 32 := match i % 128 with
  | 0 => 0x354A0FF9#32
  | 1 => 0xB53CCA00#32
  | 2 => 0x3530D21D#32
  | 3 => 0xB525FE56#32
  | 4 => 0x351C2B08#32
  | 5 => 0xB51339CD#32
  | 6 => 0x350B1097#32
  | 7 => 0xB50398F7#32
  | 8 => 0x34F97F13#32
  | 9 => 0xB4ECE6F7#32
  | 10 => 0x34E14C49#32
  | 11 => 0xB4D69568#32
  | 12 => 0x34CCABDA#32
  | 13 => 0xB4C37BD6#32
  | 14 => 0x34BAF3E5#32
  | 15 => 0xB4B30492#32
  | 16 => 0x34ABA023#32
  | 17 => 0xB4A4BA5F#32
  | 18 => 0x349E485F#32
  | 19 => 0xB4984061#32
  | 20 => 0x349299A5#32
  | 21 => 0xB48D4C4D#32
  | 22 => 0x34885143#32
  | 23 => 0xB483A221#32
  | 24 => 0x347E723F#32
  | 25 => 0xB4762200#32
  | 26 => 0x346E49FF#32
  | 27 => 0xB466E193#32
  | 28 => 0x345FE0DA#32
  | 29 => 0xB45940A1#32
  | 30 => 0x3452FA51#32
  | 31 => 0xB44D07E6#32
  | 32 => 0x344763DA#32
  | 33 => 0xB4420919#32
  | 34 => 0x343CF2FA#32
  | 35 => 0xB4381D32#32
  | 36 => 0x343383CC#32
  | 37 => 0xB42F2322#32
  | 38 => 0x342AF7D2#32
  | 39 => 0xB426FEBD#32
  | 40 => 0x342334FF#32
  | 41 => 0xB41F97EA#32
  | 42 => 0x341C2500#32
  | 43 => 0xB418D9F0#32
  | 44 => 0x3415B495#32
  | 45 => 0xB412B2ED#32
  | 46 => 0x340FD31A#32
  | 47 => 0xB40D1360#32
  | 48 => 0x340A721F#32
  | 49 => 0xB407EDD1#32
  | 50 => 0x3405850C#32
  | 51 => 0xB403367C#32
  | 52 => 0x340100E3#32
  | 53 => 0xB3FDC62E#32
  | 54 => 0x33F9B800#32
  | 55 => 0xB3F5D532#32
  | 56 => 0x33F21BD6#32
  | 57 => 0xB3EE8A1F#32
  | 58 => 0x33EB1E5A#32
  | 59 => 0xB3E7D6EF#32
  | 60 => 0x33E4B25D#32
  | 61 => 0xB3E1AF3D#32
  | 62 => 0x33DECC38#32
  | 63 => 0xB3DC0810#32
  | 64 => 0x33D96196#32
  | 65 => 0xB3D6D7AE#32
  | 66 => 0x33D4694B#32
  | 67 => 0xB3D21572#32
  | 68 => 0x33CFDB34#32
  | 69 => 0xB3CDB9B1#32
  | 70 => 0x33CBB015#32
  | 71 => 0xB3C9BD97#32
  | 72 => 0x33C7E17D#32
  | 73 => 0xB3C61B15#32
  | 74 => 0x33C469B8#32
  | 75 => 0xB3C2CCC7#32
  | 76 => 0x33C143B0#32
  | 77 => 0xB3BFCDE6#32
  | 78 => 0x33BE6AE7#32
  | 79 => 0xB3BD1A36#32
  | 80 => 0x33BBDB61#32
  | 81 => 0xB3BAADFB#32
  | 82 => 0x33B9919E#32
  | 83 => 0xB3B885EC#32
  | 84 => 0x33B78A8A#32
  | 85 => 0xB3B69F28#32
  | 86 => 0x33B5C377#32
  | 87 => 0xB3B4F732#32
  | 88 => 0x33B43A15#32
  | 89 => 0xB3B38BE5#32
  | 90 => 0x33B2EC6A#32
  | 91 => 0xB3B25B72#32
  | 92 => 0x33B1D8CF#32
  | 93 => 0xB3B16459#32
  | 94 => 0x33B0FDEA#32
  | 95 => 0xB3B0A563#32
  | 96 => 0x33B05AA9#32
  | 97 => 0xB3B01DA5#32
  | 98 => 0x33AFEE43#32
  | 99 => 0xB3AFCC75#32
  | 100 => 0x33AFB831#32
  | 101 => 0xB3AFB170#32
  | 102 => 0x33AFB831#32
  | 103 => 0xB3AFCC75#32
  | 104 => 0x33AFEE43#32
  | 105 => 0xB3B01DA5#32
  | 106 => 0x33B05AA9#32
  | 107 => 0xB3B0A563#32
  | 108 => 0x33B0FDEA#32
  | 109 => 0xB3B16459#32
  | 110 => 0x33B1D8CF#32
  | 111 => 0xB3B25B72#32
  | 112 => 0x33B2EC6A#32
  | 113 => 0xB3B38BE5#32
  | 114 => 0x33B43A15#32
  | 115 => 0xB3B4F732#32
  | 116 => 0x33B5C377#32
  | 117 => 0xB3B69F28#32
  | 118 => 0x33B78A8A#32
  | 119 => 0xB3B885EC#32
  | 120 => 0x33B9919E#32
  | 121 => 0xB3BAADFB#32
  | 122 => 0x33BBDB61#32
  | 123 => 0xB3BD1A36#32
  | 124 => 0x33BE6AE7#32
  | 125 => 0xB3BFCDE6#32
  | 126 => 0x33C143B0#32
  | 127 => 0xB3C2CCC7#32
  | _ => 0#32

noncomputable abbrev lit0t0_204 (i : Nat) : BitVec 32 := match i % 128 with
  | 0 => 0xB3C2CCC7#32
  | 1 => 0x33C469B8#32
  | 2 => 0xB3C61B15#32
  | 3 => 0x33C7E17D#32
  | 4 => 0xB3C9BD97#32
  | 5 => 0x33CBB015#32
  | 6 => 0xB3CDB9B1#32
  | 7 => 0x33CFDB34#32
  | 8 => 0xB3D21572#32
  | 9 => 0x33D4694B#32
  | 10 => 0xB3D6D7AE#32
  | 11 => 0x33D96196#32
  | 12 => 0xB3DC0810#32
  | 13 => 0x33DECC38#32
  | 14 => 0xB3E1AF3D#32
  | 15 => 0x33E4B25D#32
  | 16 => 0xB3E7D6EF#32
  | 17 => 0x33EB1E5A#32
  | 18 => 0xB3EE8A1F#32
  | 19 => 0x33F21BD6#32
  | 20 => 0xB3F5D532#32
  | 21 => 0x33F9B800#32
  | 22 => 0xB3FDC62E#32
  | 23 => 0x340100E3#32
  | 24 => 0xB403367C#32
  | 25 => 0x3405850C#32
  | 26 => 0xB407EDD1#32
  | 27 => 0x340A721F#32
  | 28 => 0xB40D1360#32
  | 29 => 0x340FD31A#32
  | 30 => 0xB412B2ED#32
  | 31 => 0x3415B495#32
  | 32 => 0xB418D9F0#32
  | 33 => 0x341C2500#32
  | 34 => 0xB41F97EA#32
  | 35 => 0x342334FF#32
  | 36 => 0xB426FEBD#32
  | 37 => 0x342AF7D2#32
  | 38 => 0xB42F2322#32
  | 39 => 0x343383CC#32
  | 40 => 0xB4381D32#32
  | 41 => 0x343CF2FA#32
  | 42 => 0xB4420919#32
  | 43 => 0x344763DA#32
  | 44 => 0xB44D07E6#32
  | 45 => 0x3452FA51#32
  | 46 => 0xB45940A1#32
  | 47 => 0x345FE0DA#32
  | 48 => 0xB466E193#32
  | 49 => 0x346E49FF#32
  | 50 => 0xB4762200#32
  | 51 => 0x347E723F#32
  | 52 => 0xB483A221#32
  | 53 => 0x34885142#32
  | 54 => 0xB48D4C4D#32
  | 55 => 0x349299A5#32
  | 56 => 0xB4984061#32
  | 57 => 0x349E485F#32
  | 58 => 0xB4A4BA5F#32
  | 59 => 0x34ABA023#32
  | 60 => 0xB4B30492#32
  | 61 => 0x34BAF3E5#32
  | 62 => 0xB4C37BD6#32
  | 63 => 0x34CCABDA#32
  | 64 => 0xB4D69568#32
  | 65 => 0x34E14C49#32
  | 66 => 0xB4ECE6F7#32
  | 67 => 0x34F97F13#32
  | 68 => 0xB50398F7#32
  | 69 => 0x350B1097#32
  | 70 => 0xB51339CD#32
  | 71 => 0x351C2B08#32
  | 72 => 0xB525FE56#32
  | 73 => 0x3530D21D#32
  | 74 => 0xB53CCA00#32
  | 75 => 0x354A0FF9#32
  | 76 => 0xB558D5BB#32
  | 77 => 0x35695670#32
  | 78 => 0xB57BD8F1#32
  | 79 => 0x3588594C#32
  | 80 => 0xB5942572#32
  | 81 => 0x35A19018#32
  | 82 => 0xB5B0E6EF#32
  | 83 => 0x35C28A3B#32
  | 84 => 0xB5D6F23A#32
  | 85 => 0x35EEB658#32
  | 86 => 0xB6054B76#32
  | 87 => 0x3615C529#32
  | 88 => 0xB6296767#32
  | 89 => 0x3641014B#32
  | 90 => 0xB65DA20C#32
  | 91 => 0x368056F2#32
  | 92 => 0xB695FBC4#32
  | 93 => 0x36B0ED61#32
  | 94 => 0xB6D29E9B#32
  | 95 => 0x36FFBDB2#32
  | 96 => 0xB692EE32#32
  | 97 => 0x391EBB1A#32
  | 98 => 0x3B12D0DF#32
  | 99 => 0x3CA0086D#32
  | 100 => 0x3DBAD58B#32
  | 101 => 0x3E6BB748#32
  | 102 => 0x3EA069FE#32
  | 103 => 0x3E6BB748#32
  | 104 => 0x3DBAD58B#32
  | 105 => 0x3CA0086D#32
  | 106 => 0x3B12D0DF#32
  | 107 => 0x391EBB1A#32
  | 108 => 0xB692EE32#32
  | 109 => 0x36FFBDB2#32
  | 110 => 0xB6D29E9B#32
  | 111 => 0x36B0ED61#32
  | 112 => 0xB695FBC4#32
  | 113 => 0x368056F2#32
  | 114 => 0xB65DA20C#32
  | 115 => 0x3641014B#32
  | 116 => 0xB6296767#32
  | 117 => 0x3615C529#32
  | 118 => 0xB6054B76#32
  | 119 => 0x35EEB658#32
  | 120 => 0xB5D6F23A#32
  | 121 => 0x35C28A3B#32
  | 122 => 0xB5B0E6EF#32
  | 123 => 0x35A19018#32
  | 124 => 0xB5942572#32
  | 125 => 0x3588594C#32
  | 126 => 0xB57BD8F1#32
  | 127 => 0x35695670#32
  | _ => 0#32

noncomputable abbrev lit0t0_205 (i : Nat) : BitVec 32 := match i % 128 with
  | 0 => 0xB558D5BB#32
  | 1 => 0x354A0FF9#32
  | 2 => 0xB53CCA00#32
  | 3 => 0x3530D21D#32
  | 4 => 0xB525FE56#32
  | 5 => 0x351C2B08#32
  | 6 => 0xB51339CD#32
  | 7 => 0x350B1097#32
  | 8 => 0xB50398F7#32
  | 9 => 0x34F97F13#32
  | 10 => 0xB4ECE6F7#32
  | 11 => 0x34E14C49#32
  | 12 => 0xB4D69568#32
  | 13 => 0x34CCABDA#32
  | 14 => 0xB4C37BD6#32
  | 15 => 0x34BAF3E5#32
  | 16 => 0xB4B30492#32
  | 17 => 0x34ABA023#32
  | 18 => 0xB4A4BA5F#32
  | 19 => 0x349E485F#32
  | 20 => 0xB4984061#32
  | 21 => 0x349299A5#32
  | 22 => 0xB48D4C4D#32
  | 23 => 0x34885143#32
  | 24 => 0xB483A221#32
  | 25 => 0x347E723F#32
  | 26 => 0xB4762200#32
  | 27 => 0x346E49FF#32
  | 28 => 0xB466E193#32
  | 29 => 0x345FE0DA#32
  | 30 => 0xB45940A1#32
  | 31 => 0x3452FA51#32
  | 32 => 0xB44D07E6#32
  | 33 => 0x344763DA#32
  | 34 => 0xB4420919#32
  | 35 => 0x343CF2FA#32
  | 36 => 0xB4381D32#32
  | 37 => 0x343383CC#32
  | 38 => 0xB42F2322#32
  | 39 => 0x342AF7D2#32
  | 40 => 0xB426FEBD#32
  | 41 => 0x342334FF#32
  | 42 => 0xB41F97EA#32
  | 43 => 0x341C2500#32
  | 44 => 0xB418D9F0#32
  | 45 => 0x3415B495#32
  | 46 => 0xB412B2ED#32
  | 47 => 0x340FD31A#32
  | 48 => 0xB40D1360#32
  | 49 => 0x340A721F#32
  | 50 => 0xB407EDD1#32
  | 51 => 0x3405850C#32
  | 52 => 0xB403367C#32
  | 53 => 0x340100E3#32
  | 54 => 0xB3FDC62E#32
  | 55 => 0x33F9B800#32
  | 56 => 0xB3F5D532#32
  | 57 => 0x33F21BD6#32
  | 58 => 0xB3EE8A1F#32
  | 59 => 0x33EB1E5A#32
  | 60 => 0xB3E7D6EF#32
  | 61 => 0x33E4B25D#32
  | 62 => 0xB3E1AF3D#32
  | 63 => 0x33DECC38#32
  | 64 => 0xB3DC0810#32
  | 65 => 0x33D96196#32
  | 66 => 0xB3D6D7AE#32
  | 67 => 0x33D4694B#32
  | 68 => 0xB3D21572#32
  | 69 => 0x33CFDB34#32
  | 70 => 0xB3CDB9B1#32
  | 71 => 0x33CBB015#32
  | 72 => 0xB3C9BD97#32
  | 73 => 0x33C7E17D#32
  | 74 => 0xB3C61B15#32
  | 75 => 0x33C469B8#32
  | 76 => 0xB3C2CCC7#32
  | 77 => 0x33C143B0#32
  | 78 => 0xB3BFCDE6#32
  | 79 => 0x33BE6AE7#32
  | 80 => 0xB3BD1A36#32
  | 81 => 0x33BBDB61#32
  | 82 => 0xB3BAADFB#32
  | 83 => 0x33B9919E#32
  | 84 => 0xB3B885EC#32
  | 85 => 0x33B78A8A#32
  | 86 => 0xB3B69F28#32
  | 87 => 0x33B5C377#32
  | 88 => 0xB3B4F732#32
  | 89 => 0x33B43A15#32
  | 90 => 0xB3B38BE5#32
  | 91 => 0x33B2EC6A#32
  | 92 => 0xB3B25B72#32
  | 93 => 0x33B1D8CF#32
  | 94 => 0xB3B16459#32
  | 95 => 0x33B0FDEA#32
  | 96 => 0xB3B0A563#32
  | 97 => 0x33B05AA9#32
  | 98 => 0xB3B01DA5#32
  | 99 => 0x33AFEE43#32
  | 100 => 0xB3AFCC75#32
  | 101 => 0x33AFB831#32
  | 102 => 0xB3AFB170#32
  | 103 => 0x33AFB831#32
  | 104 => 0xB3AFCC75#32
  | 105 => 0x33AFEE43#32
  | 106 => 0xB3B01DA5#32
  | 107 => 0x33B05AA9#32
  | 108 => 0xB3B0A563#32
  | 109 => 0x33B0FDEA#32
  | 110 => 0xB3B16459#32
  | 111 => 0x33B1D8CF#32
  | 112 => 0xB3B25B72#32
  | 113 => 0x33B2EC6A#32
  | 114 => 0xB3B38BE5#32
  | 115 => 0x33B43A15#32
  | 116 => 0xB3B4F732#32
  | 117 => 0x33B5C377#32
  | 118 => 0xB3B69F28#32
  | 119 => 0x33B78A8A#32
  | 120 => 0xB3B885EC#32
  | 121 => 0x33B9919E#32
  | 122 => 0xB3BAADFB#32
  | 123 => 0x33BBDB61#32
  | 124 => 0xB3BD1A36#32
  | 125 => 0x33BE6AE7#32
  | 126 => 0xB3BFCDE6#32
  | 127 => 0x33C143B0#32
  | _ => 0#32

noncomputable abbrev lit0t0_206 (i : Nat) : BitVec 32 := match i % 128 with
  | 0 => 0x33C143B0#32
  | 1 => 0xB3C2CCC7#32
  | 2 => 0x33C469B8#32
  | 3 => 0xB3C61B15#32
  | 4 => 0x33C7E17D#32
  | 5 => 0xB3C9BD97#32
  | 6 => 0x33CBB015#32
  | 7 => 0xB3CDB9B1#32
  | 8 => 0x33CFDB34#32
  | 9 => 0xB3D21572#32
  | 10 => 0x33D4694B#32
  | 11 => 0xB3D6D7AE#32
  | 12 => 0x33D96196#32
  | 13 => 0xB3DC0810#32
  | 14 => 0x33DECC38#32
  | 15 => 0xB3E1AF3D#32
  | 16 => 0x33E4B25D#32
  | 17 => 0xB3E7D6EF#32
  | 18 => 0x33EB1E5A#32
  | 19 => 0xB3EE8A1F#32
  | 20 => 0x33F21BD6#32
  | 21 => 0xB3F5D532#32
  | 22 => 0x33F9B800#32
  | 23 => 0xB3FDC62E#32
  | 24 => 0x340100E3#32
  | 25 => 0xB403367C#32
  | 26 => 0x3405850C#32
  | 27 => 0xB407EDD1#32
  | 28 => 0x340A721F#32
  | 29 => 0xB40D1360#32
  | 30 => 0x340FD31A#32
  | 31 => 0xB412B2ED#32
  | 32 => 0x3415B495#32
  | 33 => 0xB418D9F0#32
  | 34 => 0x341C2500#32
  | 35 => 0xB41F97EA#32
  | 36 => 0x342334FF#32
  | 37 => 0xB426FEBD#32
  | 38 => 0x342AF7D2#32
  | 39 => 0xB42F2322#32
  | 40 => 0x343383CC#32
  | 41 => 0xB4381D32#32
  | 42 => 0x343CF2FA#32
  | 43 => 0xB4420919#32
  | 44 => 0x344763DA#32
  | 45 => 0xB44D07E6#32
  | 46 => 0x3452FA51#32
  | 47 => 0xB45940A1#32
  | 48 => 0x345FE0DA#32
  | 49 => 0xB466E193#32
  | 50 => 0x346E49FF#32
  | 51 => 0xB4762200#32
  | 52 => 0x347E723F#32
  | 53 => 0xB483A221#32
  | 54 => 0x34885142#32
  | 55 => 0xB48D4C4D#32
  | 56 => 0x349299A5#32
  | 57 => 0xB4984061#32
  | 58 => 0x349E485F#32
  | 59 => 0xB4A4BA5F#32
  | 60 => 0x34ABA023#32
  | 61 => 0xB4B30492#32
  | 62 => 0x34BAF3E5#32
  | 63 => 0xB4C37BD6#32
  | 64 => 0x34CCABDA#32
  | 65 => 0xB4D69568#32
  | 66 => 0x34E14C49#32
  | 67 => 0xB4ECE6F7#32
  | 68 => 0x34F97F13#32
  | 69 => 0xB50398F7#32
  | 70 => 0x350B1097#32
  | 71 => 0xB51339CD#32
  | 72 => 0x351C2B08#32
  | 73 => 0xB525FE56#32
  | 74 => 0x3530D21D#32
  | 75 => 0xB53CCA00#32
  | 76 => 0x354A0FF9#32
  | 77 => 0xB558D5BB#32
  | 78 => 0x35695670#32
  | 79 => 0xB57BD8F1#32
  | 80 => 0x3588594C#32
  | 81 => 0xB5942572#32
  | 82 => 0x35A19018#32
  | 83 => 0xB5B0E6EF#32
  | 84 => 0x35C28A3B#32
  | 85 => 0xB5D6F23A#32
  | 86 => 0x35EEB658#32
  | 87 => 0xB6054B76#32
  | 88 => 0x3615C529#32
  | 89 => 0xB6296767#32
  | 90 => 0x3641014B#32
  | 91 => 0xB65DA20C#32
  | 92 => 0x368056F2#32
  | 93 => 0xB695FBC4#32
  | 94 => 0x36B0ED61#32
  | 95 => 0xB6D29E9B#32
  | 96 => 0x36FFBDB2#32
  | 97 => 0xB692EE32#32
  | 98 => 0x391EBB1A#32
  | 99 => 0x3B12D0DF#32
  | 100 => 0x3CA0086D#32
  | 101 => 0x3DBAD58B#32
  | 102 => 0x3E6BB748#32
  | 103 => 0x3EA069FE#32
  | 104 => 0x3E6BB748#32
  | 105 => 0x3DBAD58B#32
  | 106 => 0x3CA0086D#32
  | 107 => 0x3B12D0DF#32
  | 108 => 0x391EBB1A#32
  | 109 => 0xB692EE32#32
  | 110 => 0x36FFBDB2#32
  | 111 => 0xB6D29E9B#32
  | 112 => 0x36B0ED61#32
  | 113 => 0xB695FBC4#32
  | 114 => 0x368056F2#32
  | 115 => 0xB65DA20C#32
  | 116 => 0x3641014B#32
  | 117 => 0xB6296767#32
  | 118 => 0x3615C529#32
  | 119 => 0xB6054B76#32
  | 120 => 0x35EEB658#32
  | 121 => 0xB5D6F23A#32
  | 122 => 0x35C28A3B#32
  | 123 => 0xB5B0E6EF#32
  | 124 => 0x35A19018#32
  | 125 => 0xB5942572#32
  | 126 => 0x3588594C#32
  | 127 => 0xB57BD8F1#32
  | _ => 0#32

noncomputable abbrev lit0t0_207 (i : Nat) : BitVec 32 := match i % 128 with
  | 0 => 0x35695670#32
  | 1 => 0xB558D5BB#32
  | 2 => 0x354A0FF9#32
  | 3 => 0xB53CCA00#32
  | 4 => 0x3530D21D#32
  | 5 => 0xB525FE56#32
  | 6 => 0x351C2B08#32
  | 7 => 0xB51339CD#32
  | 8 => 0x350B1097#32
  | 9 => 0xB50398F7#32
  | 10 => 0x34F97F13#32
  | 11 => 0xB4ECE6F7#32
  | 12 => 0x34E14C49#32
  | 13 => 0xB4D69568#32
  | 14 => 0x34CCABDA#32
  | 15 => 0xB4C37BD6#32
  | 16 => 0x34BAF3E5#32
  | 17 => 0xB4B30492#32
  | 18 => 0x34ABA023#32
  | 19 => 0xB4A4BA5F#32
  | 20 => 0x349E485F#32
  | 21 => 0xB4984061#32
  | 22 => 0x349299A5#32
  | 23 => 0xB48D4C4D#32
  | 24 => 0x34885143#32
  | 25 => 0xB483A221#32
  | 26 => 0x347E723F#32
  | 27 => 0xB4762200#32
  | 28 => 0x346E49FF#32
  | 29 => 0xB466E193#32
  | 30 => 0x345FE0DA#32
  | 31 => 0xB45940A1#32
  | 32 => 0x3452FA51#32
  | 33 => 0xB44D07E6#32
  | 34 => 0x344763DA#32
  | 35 => 0xB4420919#32
  | 36 => 0x343CF2FA#32
  | 37 => 0xB4381D32#32
  | 38 => 0x343383CC#32
  | 39 => 0xB42F2322#32
  | 40 => 0x342AF7D2#32
  | 41 => 0xB426FEBD#32
  | 42 => 0x342334FF#32
  | 43 => 0xB41F97EA#32
  | 44 => 0x341C2500#32
  | 45 => 0xB418D9F0#32
  | 46 => 0x3415B495#32
  | 47 => 0xB412B2ED#32
  | 48 => 0x340FD31A#32
  | 49 => 0xB40D1360#32
  | 50 => 0x340A721F#32
  | 51 => 0xB407EDD1#32
  | 52 => 0x3405850C#32
  | 53 => 0xB403367C#32
  | 54 => 0x340100E3#32
  | 55 => 0xB3FDC62E#32
  | 56 => 0x33F9B800#32
  | 57 => 0xB3F5D532#32
  | 58 => 0x33F21BD6#32
  | 59 => 0xB3EE8A1F#32
  | 60 => 0x33EB1E5A#32
  | 61 => 0xB3E7D6EF#32
  | 62 => 0x33E4B25D#32
  | 63 => 0xB3E1AF3D#32
  | 64 => 0x33DECC38#32
  | 65 => 0xB3DC0810#32
  | 66 => 0x33D96196#32
  | 67 => 0xB3D6D7AE#32
  | 68 => 0x33D4694B#32
  | 69 => 0xB3D21572#32
  | 70 => 0x33CFDB34#32
  | 71 => 0xB3CDB9B1#32
  | 72 => 0x33CBB015#32
  | 73 => 0xB3C9BD97#32
  | 74 => 0x33C7E17D#32
  | 75 => 0xB3C61B15#32
  | 76 => 0x33C469B8#32
  | 77 => 0xB3C2CCC7#32
  | 78 => 0x33C143B0#32
  | 79 => 0xB3BFCDE6#32
  | 80 => 0x33BE6AE7#32
  | 81 => 0xB3BD1A36#32
  | 82 => 0x33BBDB61#32
  | 83 => 0xB3BAADFB#32
  | 84 => 0x33B9919E#32
  | 85 => 0xB3B885EC#32
  | 86 => 0x33B78A8A#32
  | 87 => 0xB3B69F28#32
  | 88 => 0x33B5C377#32
  | 89 => 0xB3B4F732#32
  | 90 => 0x33B43A15#32
  | 91 => 0xB3B38BE5#32
  | 92 => 0x33B2EC6A#32
  | 93 => 0xB3B25B72#32
  | 94 => 0x33B1D8CF#32
  | 95 => 0xB3B16459#32
  | 96 => 0x33B0FDEA#32
  | 97 => 0xB3B0A563#32
  | 98 => 0x33B05AA9#32
  | 99 => 0xB3B01DA5#32
  | 100 => 0x33AFEE43#32
  | 101 => 0xB3AFCC75#32
  | 102 => 0x33AFB831#32
  | 103 => 0xB3AFB170#32
  | 104 => 0x33AFB831#32
  | 105 => 0xB3AFCC75#32
  | 106 => 0x33AFEE43#32
  | 107 => 0xB3B01DA5#32
  | 108 => 0x33B05AA9#32
  | 109 => 0xB3B0A563#32
  | 110 => 0x33B0FDEA#32
  | 111 => 0xB3B16459#32
  | 112 => 0x33B1D8CF#32
  | 113 => 0xB3B25B72#32
  | 114 => 0x33B2EC6A#32
  | 115 => 0xB3B38BE5#32
  | 116 => 0x33B43A15#32
  | 117 => 0xB3B4F732#32
  | 118 => 0x33B5C377#32
  | 119 => 0xB3B69F28#32
  | 120 => 0x33B78A8A#32
  | 121 => 0xB3B885EC#32
  | 122 => 0x33B9919E#32
  | 123 => 0xB3BAADFB#32
  | 124 => 0x33BBDB61#32
  | 125 => 0xB3BD1A36#32
  | 126 => 0x33BE6AE7#32
  | 127 => 0xB3BFCDE6#32
  | _ => 0#32

noncomputable abbrev lit0t0_208 (i : Nat) : BitVec 32 := match i % 128 with
  | 0 => 0xB3BFCDE6#32
  | 1 => 0x33C143B0#32
  | 2 => 0xB3C2CCC7#32
  | 3 => 0x33C469B8#32
  | 4 => 0xB3C61B15#32
  | 5 => 0x33C7E17D#32
  | 6 => 0xB3C9BD97#32
  | 7 => 0x33CBB015#32
  | 8 => 0xB3CDB9B1#32
  | 9 => 0x33CFDB34#32
  | 10 => 0xB3D21572#32
  | 11 => 0x33D4694B#32
  | 12 => 0xB3D6D7AE#32
  | 13 => 0x33D96196#32
  | 14 => 0xB3DC0810#32
  | 15 => 0x33DECC38#32
  | 16 => 0xB3E1AF3D#32
  | 17 => 0x33E4B25D#32
  | 18 => 0xB3E7D6EF#32
  | 19 => 0x33EB1E5A#32
  | 20 => 0xB3EE8A1F#32
  | 21 => 0x33F21BD6#32
  | 22 => 0xB3F5D532#32
  | 23 => 0x33F9B800#32
  | 24 => 0xB3FDC62E#32
  | 25 => 0x340100E3#32
  | 26 => 0xB403367C#32
  | 27 => 0x3405850C#32
  | 28 => 0xB407EDD1#32
  | 29 => 0x340A721F#32
  | 30 => 0xB40D1360#32
  | 31 => 0x340FD31A#32
  | 32 => 0xB412B2ED#32
  | 33 => 0x3415B495#32
  | 34 => 0xB418D9F0#32
  | 35 => 0x341C2500#32
  | 36 => 0xB41F97EA#32
  | 37 => 0x342334FF#32
  | 38 => 0xB426FEBD#32
  | 39 => 0x342AF7D2#32
  | 40 => 0xB42F2322#32
  | 41 => 0x343383CC#32
  | 42 => 0xB4381D32#32
  | 43 => 0x343CF2FA#32
  | 44 => 0xB4420919#32
  | 45 => 0x344763DA#32
  | 46 => 0xB44D07E6#32
  | 47 => 0x3452FA51#32
  | 48 => 0xB45940A1#32
  | 49 => 0x345FE0DA#32
  | 50 => 0xB466E193#32
  | 51 => 0x346E49FF#32
  | 52 => 0xB4762200#32
  | 53 => 0x347E723F#32
  | 54 => 0xB483A221#32
  | 55 => 0x34885143#32
  | 56 => 0xB48D4C4D#32
  | 57 => 0x349299A5#32
  | 58 => 0xB4984061#32
  | 59 => 0x349E485F#32
  | 60 => 0xB4A4BA5F#32
  | 61 => 0x34ABA023#32
  | 62 => 0xB4B30492#32
  | 63 => 0x34BAF3E5#32
  | 64 => 0xB4C37BD6#32
  | 65 => 0x34CCABDA#32
  | 66 => 0xB4D69568#32
  | 67 => 0x34E14C49#32
  | 68 => 0xB4ECE6F7#32
  | 69 => 0x34F97F13#32
  | 70 => 0xB50398F7#32
  | 71 => 0x350B1097#32
  | 72 => 0xB51339CD#32
  | 73 => 0x351C2B08#32
  | 74 => 0xB525FE56#32
  | 75 => 0x3530D21D#32
  | 76 => 0xB53CCA00#32
  | 77 => 0x354A0FF9#32
  | 78 => 0xB558D5BB#32
  | 79 => 0x35695670#32
  | 80 => 0xB57BD8F1#32
  | 81 => 0x3588594C#32
  | 82 => 0xB5942572#32
  | 83 => 0x35A19018#32
  | 84 => 0xB5B0E6EF#32
  | 85 => 0x35C28A3B#32
  | 86 => 0xB5D6F23A#32
  | 87 => 0x35EEB658#32
  | 88 => 0xB6054B76#32
  | 89 => 0x3615C529#32
  | 90 => 0xB6296767#32
  | 91 => 0x3641014B#32
  | 92 => 0xB65DA20C#32
  | 93 => 0x368056F2#32
  | 94 => 0xB695FBC4#32
  | 95 => 0x36B0ED61#32
  | 96 => 0xB6D29E9B#32
  | 97 => 0x36FFBDB2#32
  | 98 => 0xB692EE32#32
  | 99 => 0x391EBB1A#32
  | 100 => 0x3B12D0DF#32
  | 101 => 0x3CA0086D#32
  | 102 => 0x3DBAD58B#32
  | 103 => 0x3E6BB748#32
  | 104 => 0x3EA069FE#32
  | 105 => 0x3E6BB748#32
  | 106 => 0x3DBAD58B#32
  | 107 => 0x3CA0086D#32
  | 108 => 0x3B12D0DF#32
  | 109 => 0x391EBB1A#32
  | 110 => 0xB692EE32#32
  | 111 => 0x36FFBDB2#32
  | 112 => 0xB6D29E9B#32
  | 113 => 0x36B0ED61#32
  | 114 => 0xB695FBC4#32
  | 115 => 0x368056F2#32
  | 116 => 0xB65DA20C#32
  | 117 => 0x3641014B#32
  | 118 => 0xB6296767#32
  | 119 => 0x3615C529#32
  | 120 => 0xB6054B76#32
  | 121 => 0x35EEB658#32
  | 122 => 0xB5D6F23A#32
  | 123 => 0x35C28A3B#32
  | 124 => 0xB5B0E6EF#32
  | 125 => 0x35A19018#32
  | 126 => 0xB5942572#32
  | 127 => 0x3588594C#32
  | _ => 0#32

noncomputable abbrev lit0t0_209 (i : Nat) : BitVec 32 := match i % 128 with
  | 0 => 0xB57BD8F1#32
  | 1 => 0x35695670#32
  | 2 => 0xB558D5BB#32
  | 3 => 0x354A0FF9#32
  | 4 => 0xB53CCA00#32
  | 5 => 0x3530D21D#32
  | 6 => 0xB525FE56#32
  | 7 => 0x351C2B08#32
  | 8 => 0xB51339CD#32
  | 9 => 0x350B1097#32
  | 10 => 0xB50398F7#32
  | 11 => 0x34F97F13#32
  | 12 => 0xB4ECE6F7#32
  | 13 => 0x34E14C49#32
  | 14 => 0xB4D69568#32
  | 15 => 0x34CCABDA#32
  | 16 => 0xB4C37BD6#32
  | 17 => 0x34BAF3E5#32
  | 18 => 0xB4B30492#32
  | 19 => 0x34ABA023#32
  | 20 => 0xB4A4BA5F#32
  | 21 => 0x349E485F#32
  | 22 => 0xB4984061#32
  | 23 => 0x349299A5#32
  | 24 => 0xB48D4C4D#32
  | 25 => 0x34885142#32
  | 26 => 0xB483A221#32
  | 27 => 0x347E723F#32
  | 28 => 0xB4762200#32
  | 29 => 0x346E49FF#32
  | 30 => 0xB466E193#32
  | 31 => 0x345FE0DA#32
  | 32 => 0xB45940A1#32
  | 33 => 0x3452FA51#32
  | 34 => 0xB44D07E6#32
  | 35 => 0x344763DA#32
  | 36 => 0xB4420919#32
  | 37 => 0x343CF2FA#32
  | 38 => 0xB4381D32#32
  | 39 => 0x343383CC#32
  | 40 => 0xB42F2322#32
  | 41 => 0x342AF7D2#32
  | 42 => 0xB426FEBD#32
  | 43 => 0x342334FF#32
  | 44 => 0xB41F97EA#32
  | 45 => 0x341C2500#32
  | 46 => 0xB418D9F0#32
  | 47 => 0x3415B495#32
  | 48 => 0xB412B2ED#32
  | 49 => 0x340FD31A#32
  | 50 => 0xB40D1360#32
  | 51 => 0x340A721F#32
  | 52 => 0xB407EDD1#32
  | 53 => 0x3405850C#32
  | 54 => 0xB403367C#32
  | 55 => 0x340100E3#32
  | 56 => 0xB3FDC62E#32
  | 57 => 0x33F9B800#32
  | 58 => 0xB3F5D532#32
  | 59 => 0x33F21BD6#32
  | 60 => 0xB3EE8A1F#32
  | 61 => 0x33EB1E5A#32
  | 62 => 0xB3E7D6EF#32
  | 63 => 0x33E4B25D#32
  | 64 => 0xB3E1AF3D#32
  | 65 => 0x33DECC38#32
  | 66 => 0xB3DC0810#32
  | 67 => 0x33D96196#32
  | 68 => 0xB3D6D7AE#32
  | 69 => 0x33D4694B#32
  | 70 => 0xB3D21572#32
  | 71 => 0x33CFDB34#32
  | 72 => 0xB3CDB9B1#32
  | 73 => 0x33CBB015#32
  | 74 => 0xB3C9BD97#32
  | 75 => 0x33C7E17D#32
  | 76 => 0xB3C61B15#32
  | 77 => 0x33C469B8#32
  | 78 => 0xB3C2CCC7#32
  | 79 => 0x33C143B0#32
  | 80 => 0xB3BFCDE6#32
  | 81 => 0x33BE6AE7#32
  | 82 => 0xB3BD1A36#32
  | 83 => 0x33BBDB61#32
  | 84 => 0xB3BAADFB#32
  | 85 => 0x33B9919E#32
  | 86 => 0xB3B885EC#32
  | 87 => 0x33B78A8A#32
  | 88 => 0xB3B69F28#32
  | 89 => 0x33B5C377#32
  | 90 => 0xB3B4F732#32
  | 91 => 0x33B43A15#32
  | 92 => 0xB3B38BE5#32
  | 93 => 0x33B2EC6A#32
  | 94 => 0xB3B25B72#32
  | 95 => 0x33B1D8CF#32
  | 96 => 0xB3B16459#32
  | 97 => 0x33B0FDEA#32
  | 98 => 0xB3B0A563#32
  | 99 => 0x33B05AA9#32
  | 100 => 0xB3B01DA5#32
  | 101 => 0x33AFEE43#32
  | 102 => 0xB3AFCC75#32
  | 103 => 0x33AFB831#32
  | 104 => 0xB3AFB170#32
  | 105 => 0x33AFB831#32
  | 106 => 0xB3AFCC75#32
  | 107 => 0x33AFEE43#32
  | 108 => 0xB3B01DA5#32
  | 109 => 0x33B05AA9#32
  | 110 => 0xB3B0A563#32
  | 111 => 0x33B0FDEA#32
  | 112 => 0xB3B16459#32
  | 113 => 0x33B1D8CF#32
  | 114 => 0xB3B25B72#32
  | 115 => 0x33B2EC6A#32
  | 116 => 0xB3B38BE5#32
  | 117 => 0x33B43A15#32
  | 118 => 0xB3B4F732#32
  | 119 => 0x33B5C377#32
  | 120 => 0xB3B69F28#32
  | 121 => 0x33B78A8A#32
  | 122 => 0xB3B885EC#32
  | 123 => 0x33B9919E#32
  | 124 => 0xB3BAADFB#32
  | 125 => 0x33BBDB61#32
  | 126 => 0xB3BD1A36#32
  | 127 => 0x33BE6AE7#32
  | _ => 0#32

noncomputable abbrev lit0t0_210 (i : Nat) : BitVec 32 := match i % 128 with
  | 0 => 0x33BE6AE7#32
  | 1 => 0xB3BFCDE6#32
  | 2 => 0x33C143B0#32
  | 3 => 0xB3C2CCC7#32
  | 4 => 0x33C469B8#32
  | 5 => 0xB3C61B15#32
  | 6 => 0x33C7E17D#32
  | 7 => 0xB3C9BD97#32
  | 8 => 0x33CBB015#32
  | 9 => 0xB3CDB9B1#32
  | 10 => 0x33CFDB34#32
  | 11 => 0xB3D21572#32
  | 12 => 0x33D4694B#32
  | 13 => 0xB3D6D7AE#32
  | 14 => 0x33D96196#32
  | 15 => 0xB3DC0810#32
  | 16 => 0x33DECC38#32
  | 17 => 0xB3E1AF3D#32
  | 18 => 0x33E4B25D#32
  | 19 => 0xB3E7D6EF#32
  | 20 => 0x33EB1E5A#32
  | 21 => 0xB3EE8A1F#32
  | 22 => 0x33F21BD6#32
  | 23 => 0xB3F5D532#32
  | 24 => 0x33F9B800#32
  | 25 => 0xB3FDC62E#32
  | 26 => 0x340100E3#32
  | 27 => 0xB403367C#32
  | 28 => 0x3405850C#32
  | 29 => 0xB407EDD1#32
  | 30 => 0x340A721F#32
  | 31 => 0xB40D1360#32
  | 32 => 0x340FD31A#32
  | 33 => 0xB412B2ED#32
  | 34 => 0x3415B495#32
  | 35 => 0xB418D9F0#32
  | 36 => 0x341C2500#32
  | 37 => 0xB41F97EA#32
  | 38 => 0x342334FF#32
  | 39 => 0xB426FEBD#32
  | 40 => 0x342AF7D2#32
  | 41 => 0xB42F2322#32
  | 42 => 0x343383CC#32
  | 43 => 0xB4381D32#32
  | 44 => 0x343CF2FA#32
  | 45 => 0xB4420919#32
  | 46 => 0x344763DA#32
  | 47 => 0xB44D07E6#32
  | 48 => 0x3452FA51#32
  | 49 => 0xB45940A1#32
  | 50 => 0x345FE0DA#32
  | 51 => 0xB466E193#32
  | 52 => 0x346E49FF#32
  | 53 => 0xB4762200#32
  | 54 => 0x347E723F#32
  | 55 => 0xB483A221#32
  | 56 => 0x34885143#32
  | 57 => 0xB48D4C4D#32
  | 58 => 0x349299A5#32
  | 59 => 0xB4984061#32
  | 60 => 0x349E485F#32
  | 61 => 0xB4A4BA5F#32
  | 62 => 0x34ABA023#32
  | 63 => 0xB4B30492#32
  | 64 => 0x34BAF3E5#32
  | 65 => 0xB4C37BD6#32
  | 66 => 0x34CCABDA#32
  | 67 => 0xB4D69568#32
  | 68 => 0x34E14C49#32
  | 69 => 0xB4ECE6F7#32
  | 70 => 0x34F97F13#32
  | 71 => 0xB50398F7#32
  | 72 => 0x350B1097#32
  | 73 => 0xB51339CD#32
  | 74 => 0x351C2B08#32
  | 75 => 0xB525FE56#32
  | 76 => 0x3530D21D#32
  | 77 => 0xB53CCA00#32
  | 78 => 0x354A0FF9#32
  | 79 => 0xB558D5BB#32
  | 80 => 0x35695670#32
  | 81 => 0xB57BD8F1#32
  | 82 => 0x3588594C#32
  | 83 => 0xB5942572#32
  | 84 => 0x35A19018#32
  | 85 => 0xB5B0E6EF#32
  | 86 => 0x35C28A3B#32
  | 87 => 0xB5D6F23A#32
  | 88 => 0x35EEB658#32
  | 89 => 0xB6054B76#32
  | 90 => 0x3615C529#32
  | 91 => 0xB6296767#32
  | 92 => 0x3641014B#32
  | 93 => 0xB65DA20C#32
  | 94 => 0x368056F2#32
  | 95 => 0xB695FBC4#32
  | 96 => 0x36B0ED61#32
  | 97 => 0xB6D29E9B#32
  | 98 => 0x36FFBDB2#32
  | 99 => 0xB692EE32#32
  | 100 => 0x391EBB1A#32
  | 101 => 0x3B12D0DF#32
  | 102 => 0x3CA0086D#32
  | 103 => 0x3DBAD58B#32
  | 104 => 0x3E6BB748#32
  | 105 => 0x3EA069FE#32
  | 106 => 0x3E6BB748#32
  | 107 => 0x3DBAD58B#32
  | 108 => 0x3CA0086D#32
  | 109 => 0x3B12D0DF#32
  | 110 => 0x391EBB1A#32
  | 111 => 0xB692EE32#32
  | 112 => 0x36FFBDB2#32
  | 113 => 0xB6D29E9B#32
  | 114 => 0x36B0ED61#32
  | 115 => 0xB695FBC4#32
  | 116 => 0x368056F2#32
  | 117 => 0xB65DA20C#32
  | 118 => 0x3641014B#32
  | 119 => 0xB6296767#32
  | 120 => 0x3615C529#32
  | 121 => 0xB6054B76#32
  | 122 => 0x35EEB658#32
  | 123 => 0xB5D6F23A#32
  | 124 => 0x35C28A3B#32
  | 125 => 0xB5B0E6EF#32
  | 126 => 0x35A19018#32
  | 127 => 0xB5942572#32
  | _ => 0#32

noncomputable abbrev lit0t0_211 (i : Nat) : BitVec 32 := match i % 128 with
  | 0 => 0x3588594C#32
  | 1 => 0xB57BD8F1#32
  | 2 => 0x35695670#32
  | 3 => 0xB558D5BB#32
  | 4 => 0x354A0FF9#32
  | 5 => 0xB53CCA00#32
  | 6 => 0x3530D21D#32
  | 7 => 0xB525FE56#32
  | 8 => 0x351C2B08#32
  | 9 => 0xB51339CD#32
  | 10 => 0x350B1097#32
  | 11 => 0xB50398F7#32
  | 12 => 0x34F97F13#32
  | 13 => 0xB4ECE6F7#32
  | 14 => 0x34E14C49#32
  | 15 => 0xB4D69568#32
  | 16 => 0x34CCABDA#32
  | 17 => 0xB4C37BD6#32
  | 18 => 0x34BAF3E5#32
  | 19 => 0xB4B30492#32
  | 20 => 0x34ABA023#32
  | 21 => 0xB4A4BA5F#32
  | 22 => 0x349E485F#32
  | 23 => 0xB4984061#32
  | 24 => 0x349299A5#32
  | 25 => 0xB48D4C4D#32
  | 26 => 0x34885143#32
  | 27 => 0xB483A221#32
  | 28 => 0x347E723F#32
  | 29 => 0xB4762200#32
  | 30 => 0x346E49FF#32
  | 31 => 0xB466E193#32
  | 32 => 0x345FE0DA#32
  | 33 => 0xB45940A1#32
  | 34 => 0x3452FA51#32
  | 35 => 0xB44D07E6#32
  | 36 => 0x344763DA#32
  | 37 => 0xB4420919#32
  | 38 => 0x343CF2FA#32
  | 39 => 0xB4381D32#32
  | 40 => 0x343383CC#32
  | 41 => 0xB42F2322#32
  | 42 => 0x342AF7D2#32
  | 43 => 0xB426FEBD#32
  | 44 => 0x342334FF#32
  | 45 => 0xB41F97EA#32
  | 46 => 0x341C2500#32
  | 47 => 0xB418D9F0#32
  | 48 => 0x3415B495#32
  | 49 => 0xB412B2ED#32
  | 50 => 0x340FD31A#32
  | 51 => 0xB40D1360#32
  | 52 => 0x340A721F#32
  | 53 => 0xB407EDD1#32
  | 54 => 0x3405850C#32
  | 55 => 0xB403367C#32
  | 56 => 0x340100E3#32
  | 57 => 0xB3FDC62E#32
  | 58 => 0x33F9B800#32
  | 59 => 0xB3F5D532#32
  | 60 => 0x33F21BD6#32
  | 61 => 0xB3EE8A1F#32
  | 62 => 0x33EB1E5A#32
  | 63 => 0xB3E7D6EF#32
  | 64 => 0x33E4B25D#32
  | 65 => 0xB3E1AF3D#32
  | 66 => 0x33DECC38#32
  | 67 => 0xB3DC0810#32
  | 68 => 0x33D96196#32
  | 69 => 0xB3D6D7AE#32
  | 70 => 0x33D4694B#32
  | 71 => 0xB3D21572#32
  | 72 => 0x33CFDB34#32
  | 73 => 0xB3CDB9B1#32
  | 74 => 0x33CBB015#32
  | 75 => 0xB3C9BD97#32
  | 76 => 0x33C7E17D#32
  | 77 => 0xB3C61B15#32
  | 78 => 0x33C469B8#32
  | 79 => 0xB3C2CCC7#32
  | 80 => 0x33C143B0#32
  | 81 => 0xB3BFCDE6#32
  | 82 => 0x33BE6AE7#32
  | 83 => 0xB3BD1A36#32
  | 84 => 0x33BBDB61#32
  | 85 => 0xB3BAADFB#32
  | 86 => 0x33B9919E#32
  | 87 => 0xB3B885EC#32
  | 88 => 0x33B78A8A#32
  | 89 => 0xB3B69F28#32
  | 90 => 0x33B5C377#32
  | 91 => 0xB3B4F732#32
  | 92 => 0x33B43A15#32
  | 93 => 0xB3B38BE5#32
  | 94 => 0x33B2EC6A#32
  | 95 => 0xB3B25B72#32
  | 96 => 0x33B1D8CF#32
  | 97 => 0xB3B16459#32
  | 98 => 0x33B0FDEA#32
  | 99 => 0xB3B0A563#32
  | 100 => 0x33B05AA9#32
  | 101 => 0xB3B01DA5#32
  | 102 => 0x33AFEE43#32
  | 103 => 0xB3AFCC75#32
  | 104 => 0x33AFB831#32
  | 105 => 0xB3AFB170#32
  | 106 => 0x33AFB831#32
  | 107 => 0xB3AFCC75#32
  | 108 => 0x33AFEE43#32
  | 109 => 0xB3B01DA5#32
  | 110 => 0x33B05AA9#32
  | 111 => 0xB3B0A563#32
  | 112 => 0x33B0FDEA#32
  | 113 => 0xB3B16459#32
  | 114 => 0x33B1D8CF#32
  | 115 => 0xB3B25B72#32
  | 116 => 0x33B2EC6A#32
  | 117 => 0xB3B38BE5#32
  | 118 => 0x33B43A15#32
  | 119 => 0xB3B4F732#32
  | 120 => 0x33B5C377#32
  | 121 => 0xB3B69F28#32
  | 122 => 0x33B78A8A#32
  | 123 => 0xB3B885EC#32
  | 124 => 0x33B9919E#32
  | 125 => 0xB3BAADFB#32
  | 126 => 0x33BBDB61#32
  | 127 => 0xB3BD1A36#32
  | _ => 0#32

noncomputable abbrev lit0t0_212 (i : Nat) : BitVec 32 := match i % 128 with
  | 0 => 0xB3BD1A36#32
  | 1 => 0x33BE6AE7#32
  | 2 => 0xB3BFCDE6#32
  | 3 => 0x33C143B0#32
  | 4 => 0xB3C2CCC7#32
  | 5 => 0x33C469B8#32
  | 6 => 0xB3C61B15#32
  | 7 => 0x33C7E17D#32
  | 8 => 0xB3C9BD97#32
  | 9 => 0x33CBB015#32
  | 10 => 0xB3CDB9B1#32
  | 11 => 0x33CFDB34#32
  | 12 => 0xB3D21572#32
  | 13 => 0x33D4694B#32
  | 14 => 0xB3D6D7AE#32
  | 15 => 0x33D96196#32
  | 16 => 0xB3DC0810#32
  | 17 => 0x33DECC38#32
  | 18 => 0xB3E1AF3D#32
  | 19 => 0x33E4B25D#32
  | 20 => 0xB3E7D6EF#32
  | 21 => 0x33EB1E5A#32
  | 22 => 0xB3EE8A1F#32
  | 23 => 0x33F21BD6#32
  | 24 => 0xB3F5D532#32
  | 25 => 0x33F9B800#32
  | 26 => 0xB3FDC62E#32
  | 27 => 0x340100E3#32
  | 28 => 0xB403367C#32
  | 29 => 0x3405850C#32
  | 30 => 0xB407EDD1#32
  | 31 => 0x340A721F#32
  | 32 => 0xB40D1360#32
  | 33 => 0x340FD31A#32
  | 34 => 0xB412B2ED#32
  | 35 => 0x3415B495#32
  | 36 => 0xB418D9F0#32
  | 37 => 0x341C2500#32
  | 38 => 0xB41F97EA#32
  | 39 => 0x342334FF#32
  | 40 => 0xB426FEBD#32
  | 41 => 0x342AF7D2#32
  | 42 => 0xB42F2322#32
  | 43 => 0x343383CC#32
  | 44 => 0xB4381D32#32
  | 45 => 0x343CF2FA#32
  | 46 => 0xB4420919#32
  | 47 => 0x344763DA#32
  | 48 => 0xB44D07E6#32
  | 49 => 0x3452FA51#32
  | 50 => 0xB45940A1#32
  | 51 => 0x345FE0DA#32
  | 52 => 0xB466E193#32
  | 53 => 0x346E49FF#32
  | 54 => 0xB4762200#32
  | 55 => 0x347E723F#32
  | 56 => 0xB483A221#32
  | 57 => 0x34885143#32
  | 58 => 0xB48D4C4D#32
  | 59 => 0x349299A5#32
  | 60 => 0xB4984061#32
  | 61 => 0x349E485F#32
  | 62 => 0xB4A4BA5F#32
  | 63 => 0x34ABA023#32
  | 64 => 0xB4B30492#32
  | 65 => 0x34BAF3E5#32
  | 66 => 0xB4C37BD6#32
  | 67 => 0x34CCABDA#32
  | 68 => 0xB4D69568#32
  | 69 => 0x34E14C49#32
  | 70 => 0xB4ECE6F7#32
  | 71 => 0x34F97F13#32
  | 72 => 0xB50398F7#32
  | 73 => 0x350B1097#32
  | 74 => 0xB51339CD#32
  | 75 => 0x351C2B08#32
  | 76 => 0xB525FE56#32
  | 77 => 0x3530D21D#32
  | 78 => 0xB53CCA00#32
  | 79 => 0x354A0FF9#32
  | 80 => 0xB558D5BB#32
  | 81 => 0x35695670#32
  | 82 => 0xB57BD8F1#32
  | 83 => 0x3588594C#32
  | 84 => 0xB5942572#32
  | 85 => 0x35A19018#32
  | 86 => 0xB5B0E6EF#32
  | 87 => 0x35C28A3B#32
  | 88 => 0xB5D6F23A#32
  | 89 => 0x35EEB658#32
  | 90 => 0xB6054B76#32
  | 91 => 0x3615C529#32
  | 92 => 0xB6296767#32
  | 93 => 0x3641014B#32
  | 94 => 0xB65DA20C#32
  | 95 => 0x368056F2#32
  | 96 => 0xB695FBC4#32
  | 97 => 0x36B0ED61#32
  | 98 => 0xB6D29E9B#32
  | 99 => 0x36FFBDB2#32
  | 100 => 0xB692EE32#32
  | 101 => 0x391EBB1A#32
  | 102 => 0x3B12D0DF#32
  | 103 => 0x3CA0086D#32
  | 104 => 0x3DBAD58B#32
  | 105 => 0x3E6BB748#32
  | 106 => 0x3EA069FE#32
  | 107 => 0x3E6BB748#32
  | 108 => 0x3DBAD58B#32
  | 109 => 0x3CA0086D#32
  | 110 => 0x3B12D0DF#32
  | 111 => 0x391EBB1A#32
  | 112 => 0xB692EE32#32
  | 113 => 0x36FFBDB2#32
  | 114 => 0xB6D29E9B#32
  | 115 => 0x36B0ED61#32
  | 116 => 0xB695FBC4#32
  | 117 => 0x368056F2#32
  | 118 => 0xB65DA20C#32
  | 119 => 0x3641014B#32
  | 120 => 0xB6296767#32
  | 121 => 0x3615C529#32
  | 122 => 0xB6054B76#32
  | 123 => 0x35EEB658#32
  | 124 => 0xB5D6F23A#32
  | 125 => 0x35C28A3B#32
  | 126 => 0xB5B0E6EF#32
  | 127 => 0x35A19018#32
  | _ => 0#32

noncomputable abbrev lit0t0_213 (i : Nat) : BitVec 32 := match i % 128 with
  | 0 => 0xB5942572#32
  | 1 => 0x3588594C#32
  | 2 => 0xB57BD8F1#32
  | 3 => 0x35695670#32
  | 4 => 0xB558D5BB#32
  | 5 => 0x354A0FF9#32
  | 6 => 0xB53CCA00#32
  | 7 => 0x3530D21D#32
  | 8 => 0xB525FE56#32
  | 9 => 0x351C2B08#32
  | 10 => 0xB51339CD#32
  | 11 => 0x350B1097#32
  | 12 => 0xB50398F7#32
  | 13 => 0x34F97F13#32
  | 14 => 0xB4ECE6F7#32
  | 15 => 0x34E14C49#32
  | 16 => 0xB4D69568#32
  | 17 => 0x34CCABDA#32
  | 18 => 0xB4C37BD6#32
  | 19 => 0x34BAF3E5#32
  | 20 => 0xB4B30492#32
  | 21 => 0x34ABA023#32
  | 22 => 0xB4A4BA5F#32
  | 23 => 0x349E485F#32
  | 24 => 0xB4984061#32
  | 25 => 0x349299A5#32
  | 26 => 0xB48D4C4D#32
  | 27 => 0x34885143#32
  | 28 => 0xB483A221#32
  | 29 => 0x347E723F#32
  | 30 => 0xB4762200#32
  | 31 => 0x346E49FF#32
  | 32 => 0xB466E193#32
  | 33 => 0x345FE0DA#32
  | 34 => 0xB45940A1#32
  | 35 => 0x3452FA51#32
  | 36 => 0xB44D07E6#32
  | 37 => 0x344763DA#32
  | 38 => 0xB4420919#32
  | 39 => 0x343CF2FA#32
  | 40 => 0xB4381D32#32
  | 41 => 0x343383CC#32
  | 42 => 0xB42F2322#32
  | 43 => 0x342AF7D2#32
  | 44 => 0xB426FEBD#32
  | 45 => 0x342334FF#32
  | 46 => 0xB41F97EA#32
  | 47 => 0x341C2500#32
  | 48 => 0xB418D9F0#32
  | 49 => 0x3415B495#32
  | 50 => 0xB412B2ED#32
  | 51 => 0x340FD31A#32
  | 52 => 0xB40D1360#32
  | 53 => 0x340A721F#32
  | 54 => 0xB407EDD1#32
  | 55 => 0x3405850C#32
  | 56 => 0xB403367C#32
  | 57 => 0x340100E3#32
  | 58 => 0xB3FDC62E#32
  | 59 => 0x33F9B800#32
  | 60 => 0xB3F5D532#32
  | 61 => 0x33F21BD6#32
  | 62 => 0xB3EE8A1F#32
  | 63 => 0x33EB1E5A#32
  | 64 => 0xB3E7D6EF#32
  | 65 => 0x33E4B25D#32
  | 66 => 0xB3E1AF3D#32
  | 67 => 0x33DECC38#32
  | 68 => 0xB3DC0810#32
  | 69 => 0x33D96196#32
  | 70 => 0xB3D6D7AE#32
  | 71 => 0x33D4694B#32
  | 72 => 0xB3D21572#32
  | 73 => 0x33CFDB34#32
  | 74 => 0xB3CDB9B1#32
  | 75 => 0x33CBB015#32
  | 76 => 0xB3C9BD97#32
  | 77 => 0x33C7E17D#32
  | 78 => 0xB3C61B15#32
  | 79 => 0x33C469B8#32
  | 80 => 0xB3C2CCC7#32
  | 81 => 0x33C143B0#32
  | 82 => 0xB3BFCDE6#32
  | 83 => 0x33BE6AE7#32
  | 84 => 0xB3BD1A36#32
  | 85 => 0x33BBDB61#32
  | 86 => 0xB3BAADFB#32
  | 87 => 0x33B9919E#32
  | 88 => 0xB3B885EC#32
  | 89 => 0x33B78A8A#32
  | 90 => 0xB3B69F28#32
  | 91 => 0x33B5C377#32
  | 92 => 0xB3B4F732#32
  | 93 => 0x33B43A15#32
  | 94 => 0xB3B38BE5#32
  | 95 => 0x33B2EC6A#32
  | 96 => 0xB3B25B72#32
  | 97 => 0x33B1D8CF#32
  | 98 => 0xB3B16459#32
  | 99 => 0x33B0FDEA#32
  | 100 => 0xB3B0A563#32
  | 101 => 0x33B05AA9#32
  | 102 => 0xB3B01DA5#32
  | 103 => 0x33AFEE43#32
  | 104 => 0xB3AFCC75#32
  | 105 => 0x33AFB831#32
  | 106 => 0xB3AFB170#32
  | 107 => 0x33AFB831#32
  | 108 => 0xB3AFCC75#32
  | 109 => 0x33AFEE43#32
  | 110 => 0xB3B01DA5#32
  | 111 => 0x33B05AA9#32
  | 112 => 0xB3B0A563#32
  | 113 => 0x33B0FDEA#32
  | 114 => 0xB3B16459#32
  | 115 => 0x33B1D8CF#32
  | 116 => 0xB3B25B72#32
  | 117 => 0x33B2EC6A#32
  | 118 => 0xB3B38BE5#32
  | 119 => 0x33B43A15#32
  | 120 => 0xB3B4F732#32
  | 121 => 0x33B5C377#32
  | 122 => 0xB3B69F28#32
  | 123 => 0x33B78A8A#32
  | 124 => 0xB3B885EC#32
  | 125 => 0x33B9919E#32
  | 126 => 0xB3BAADFB#32
  | 127 => 0x33BBDB61#32
  | _ => 0#32

noncomputable abbrev lit0t0_214 (i : Nat) : BitVec 32 := match i % 128 with
  | 0 => 0x33BBDB61#32
  | 1 => 0xB3BD1A36#32
  | 2 => 0x33BE6AE7#32
  | 3 => 0xB3BFCDE6#32
  | 4 => 0x33C143B0#32
  | 5 => 0xB3C2CCC7#32
  | 6 => 0x33C469B8#32
  | 7 => 0xB3C61B15#32
  | 8 => 0x33C7E17D#32
  | 9 => 0xB3C9BD97#32
  | 10 => 0x33CBB015#32
  | 11 => 0xB3CDB9B1#32
  | 12 => 0x33CFDB34#32
  | 13 => 0xB3D21572#32
  | 14 => 0x33D4694B#32
  | 15 => 0xB3D6D7AE#32
  | 16 => 0x33D96196#32
  | 17 => 0xB3DC0810#32
  | 18 => 0x33DECC38#32
  | 19 => 0xB3E1AF3D#32
  | 20 => 0x33E4B25D#32
  | 21 => 0xB3E7D6EF#32
  | 22 => 0x33EB1E5A#32
  | 23 => 0xB3EE8A1F#32
  | 24 => 0x33F21BD6#32
  | 25 => 0xB3F5D532#32
  | 26 => 0x33F9B800#32
  | 27 => 0xB3FDC62E#32
  | 28 => 0x340100E3#32
  | 29 => 0xB403367C#32
  | 30 => 0x3405850C#32
  | 31 => 0xB407EDD1#32
  | 32 => 0x340A721F#32
  | 33 => 0xB40D1360#32
  | 34 => 0x340FD31A#32
  | 35 => 0xB412B2ED#32
  | 36 => 0x3415B495#32
  | 37 => 0xB418D9F0#32
  | 38 => 0x341C2500#32
  | 39 => 0xB41F97EA#32
  | 40 => 0x342334FF#32
  | 41 => 0xB426FEBD#32
  | 42 => 0x342AF7D2#32
  | 43 => 0xB42F2322#32
  | 44 => 0x343383CC#32
  | 45 => 0xB4381D32#32
  | 46 => 0x343CF2FA#32
  | 47 => 0xB4420919#32
  | 48 => 0x344763DA#32
  | 49 => 0xB44D07E6#32
  | 50 => 0x3452FA51#32
  | 51 => 0xB45940A1#32
  | 52 => 0x345FE0DA#32
  | 53 => 0xB466E193#32
  | 54 => 0x346E49FF#32
  | 55 => 0xB4762200#32
  | 56 => 0x347E723F#32
  | 57 => 0xB483A221#32
  | 58 => 0x34885143#32
  | 59 => 0xB48D4C4D#32
  | 60 => 0x349299A5#32
  | 61 => 0xB4984061#32
  | 62 => 0x349E485F#32
  | 63 => 0xB4A4BA5F#32
  | 64 => 0x34ABA023#32
  | 65 => 0xB4B30492#32
  | 66 => 0x34BAF3E5#32
  | 67 => 0xB4C37BD6#32
  | 68 => 0x34CCABDA#32
  | 69 => 0xB4D69568#32
  | 70 => 0x34E14C49#32
  | 71 => 0xB4ECE6F7#32
  | 72 => 0x34F97F13#32
  | 73 => 0xB50398F7#32
  | 74 => 0x350B1097#32
  | 75 => 0xB51339CD#32
  | 76 => 0x351C2B08#32
  | 77 => 0xB525FE56#32
  | 78 => 0x3530D21D#32
  | 79 => 0xB53CCA00#32
  | 80 => 0x354A0FF9#32
  | 81 => 0xB558D5BB#32
  | 82 => 0x35695670#32
  | 83 => 0xB57BD8F1#32
  | 84 => 0x3588594C#32
  | 85 => 0xB5942572#32
  | 86 => 0x35A19018#32
  | 87 => 0xB5B0E6EF#32
  | 88 => 0x35C28A3B#32
  | 89 => 0xB5D6F23A#32
  | 90 => 0x35EEB658#32
  | 91 => 0xB6054B76#32
  | 92 => 0x3615C529#32
  | 93 => 0xB6296767#32
  | 94 => 0x3641014B#32
  | 95 => 0xB65DA20C#32
  | 96 => 0x368056F2#32
  | 97 => 0xB695FBC4#32
  | 98 => 0x36B0ED61#32
  | 99 => 0xB6D29E9B#32
  | 100 => 0x36FFBDB2#32
  | 101 => 0xB692EE32#32
  | 102 => 0x391EBB1A#32
  | 103 => 0x3B12D0DF#32
  | 104 => 0x3CA0086D#32
  | 105 => 0x3DBAD58B#32
  | 106 => 0x3E6BB748#32
  | 107 => 0x3EA069FE#32
  | 108 => 0x3E6BB748#32
  | 109 => 0x3DBAD58B#32
  | 110 => 0x3CA0086D#32
  | 111 => 0x3B12D0DF#32
  | 112 => 0x391EBB1A#32
  | 113 => 0xB692EE32#32
  | 114 => 0x36FFBDB2#32
  | 115 => 0xB6D29E9B#32
  | 116 => 0x36B0ED61#32
  | 117 => 0xB695FBC4#32
  | 118 => 0x368056F2#32
  | 119 => 0xB65DA20C#32
  | 120 => 0x3641014B#32
  | 121 => 0xB6296767#32
  | 122 => 0x3615C529#32
  | 123 => 0xB6054B76#32
  | 124 => 0x35EEB658#32
  | 125 => 0xB5D6F23A#32
  | 126 => 0x35C28A3B#32
  | 127 => 0xB5B0E6EF#32
  | _ => 0#32

noncomputable abbrev lit0t0_215 (i : Nat) : BitVec 32 := match i % 128 with
  | 0 => 0x35A19018#32
  | 1 => 0xB5942572#32
  | 2 => 0x3588594C#32
  | 3 => 0xB57BD8F1#32
  | 4 => 0x35695670#32
  | 5 => 0xB558D5BB#32
  | 6 => 0x354A0FF9#32
  | 7 => 0xB53CCA00#32
  | 8 => 0x3530D21D#32
  | 9 => 0xB525FE56#32
  | 10 => 0x351C2B08#32
  | 11 => 0xB51339CD#32
  | 12 => 0x350B1097#32
  | 13 => 0xB50398F7#32
  | 14 => 0x34F97F13#32
  | 15 => 0xB4ECE6F7#32
  | 16 => 0x34E14C49#32
  | 17 => 0xB4D69568#32
  | 18 => 0x34CCABDA#32
  | 19 => 0xB4C37BD6#32
  | 20 => 0x34BAF3E5#32
  | 21 => 0xB4B30492#32
  | 22 => 0x34ABA023#32
  | 23 => 0xB4A4BA5F#32
  | 24 => 0x349E485F#32
  | 25 => 0xB4984061#32
  | 26 => 0x349299A5#32
  | 27 => 0xB48D4C4D#32
  | 28 => 0x34885143#32
  | 29 => 0xB483A221#32
  | 30 => 0x347E723F#32
  | 31 => 0xB4762200#32
  | 32 => 0x346E49FF#32
  | 33 => 0xB466E193#32
  | 34 => 0x345FE0DA#32
  | 35 => 0xB45940A1#32
  | 36 => 0x3452FA51#32
  | 37 => 0xB44D07E6#32
  | 38 => 0x344763DA#32
  | 39 => 0xB4420919#32
  | 40 => 0x343CF2FA#32
  | 41 => 0xB4381D32#32
  | 42 => 0x343383CC#32
  | 43 => 0xB42F2322#32
  | 44 => 0x342AF7D2#32
  | 45 => 0xB426FEBD#32
  | 46 => 0x342334FF#32
  | 47 => 0xB41F97EA#32
  | 48 => 0x341C2500#32
  | 49 => 0xB418D9F0#32
  | 50 => 0x3415B495#32
  | 51 => 0xB412B2ED#32
  | 52 => 0x340FD31A#32
  | 53 => 0xB40D1360#32
  | 54 => 0x340A721F#32
  | 55 => 0xB407EDD1#32
  | 56 => 0x3405850C#32
  | 57 => 0xB403367C#32
  | 58 => 0x340100E3#32
  | 59 => 0xB3FDC62E#32
  | 60 => 0x33F9B800#32
  | 61 => 0xB3F5D532#32
  | 62 => 0x33F21BD6#32
  | 63 => 0xB3EE8A1F#32
  | 64 => 0x33EB1E5A#32
  | 65 => 0xB3E7D6EF#32
  | 66 => 0x33E4B25D#32
  | 67 => 0xB3E1AF3D#32
  | 68 => 0x33DECC38#32
  | 69 => 0xB3DC0810#32
  | 70 => 0x33D96196#32
  | 71 => 0xB3D6D7AE#32
  | 72 => 0x33D4694B#32
  | 73 => 0xB3D21572#32
  | 74 => 0x33CFDB34#32
  | 75 => 0xB3CDB9B1#32
  | 76 => 0x33CBB015#32
  | 77 => 0xB3C9BD97#32
  | 78 => 0x33C7E17D#32
  | 79 => 0xB3C61B15#32
  | 80 => 0x33C469B8#32
  | 81 => 0xB3C2CCC7#32
  | 82 => 0x33C143B0#32
  | 83 => 0xB3BFCDE6#32
  | 84 => 0x33BE6AE7#32
  | 85 => 0xB3BD1A36#32
  | 86 => 0x33BBDB61#32
  | 87 => 0xB3BAADFB#32
  | 88 => 0x33B9919E#32
  | 89 => 0xB3B885EC#32
  | 90 => 0x33B78A8A#32
  | 91 => 0xB3B69F28#32
  | 92 => 0x33B5C377#32
  | 93 => 0xB3B4F732#32
  | 94 => 0x33B43A15#32
  | 95 => 0xB3B38BE5#32
  | 96 => 0x33B2EC6A#32
  | 97 => 0xB3B25B72#32
  | 98 => 0x33B1D8CF#32
  | 99 => 0xB3B16459#32
  | 100 => 0x33B0FDEA#32
  | 101 => 0xB3B0A563#32
  | 102 => 0x33B05AA9#32
  | 103 => 0xB3B01DA5#32
  | 104 => 0x33AFEE43#32
  | 105 => 0xB3AFCC75#32
  | 106 => 0x33AFB831#32
  | 107 => 0xB3AFB170#32
  | 108 => 0x33AFB831#32
  | 109 => 0xB3AFCC75#32
  | 110 => 0x33AFEE43#32
  | 111 => 0xB3B01DA5#32
  | 112 => 0x33B05AA9#32
  | 113 => 0xB3B0A563#32
  | 114 => 0x33B0FDEA#32
  | 115 => 0xB3B16459#32
  | 116 => 0x33B1D8CF#32
  | 117 => 0xB3B25B72#32
  | 118 => 0x33B2EC6A#32
  | 119 => 0xB3B38BE5#32
  | 120 => 0x33B43A15#32
  | 121 => 0xB3B4F732#32
  | 122 => 0x33B5C377#32
  | 123 => 0xB3B69F28#32
  | 124 => 0x33B78A8A#32
  | 125 => 0xB3B885EC#32
  | 126 => 0x33B9919E#32
  | 127 => 0xB3BAADFB#32
  | _ => 0#32

noncomputable abbrev lit0t0_216 (i : Nat) : BitVec 32 := match i % 128 with
  | 0 => 0xB3BAADFB#32
  | 1 => 0x33BBDB61#32
  | 2 => 0xB3BD1A36#32
  | 3 => 0x33BE6AE7#32
  | 4 => 0xB3BFCDE6#32
  | 5 => 0x33C143B0#32
  | 6 => 0xB3C2CCC7#32
  | 7 => 0x33C469B8#32
  | 8 => 0xB3C61B15#32
  | 9 => 0x33C7E17D#32
  | 10 => 0xB3C9BD97#32
  | 11 => 0x33CBB015#32
  | 12 => 0xB3CDB9B1#32
  | 13 => 0x33CFDB34#32
  | 14 => 0xB3D21572#32
  | 15 => 0x33D4694B#32
  | 16 => 0xB3D6D7AE#32
  | 17 => 0x33D96196#32
  | 18 => 0xB3DC0810#32
  | 19 => 0x33DECC38#32
  | 20 => 0xB3E1AF3D#32
  | 21 => 0x33E4B25D#32
  | 22 => 0xB3E7D6EF#32
  | 23 => 0x33EB1E5A#32
  | 24 => 0xB3EE8A1F#32
  | 25 => 0x33F21BD6#32
  | 26 => 0xB3F5D532#32
  | 27 => 0x33F9B800#32
  | 28 => 0xB3FDC62E#32
  | 29 => 0x340100E3#32
  | 30 => 0xB403367C#32
  | 31 => 0x3405850C#32
  | 32 => 0xB407EDD1#32
  | 33 => 0x340A721F#32
  | 34 => 0xB40D1360#32
  | 35 => 0x340FD31A#32
  | 36 => 0xB412B2ED#32
  | 37 => 0x3415B495#32
  | 38 => 0xB418D9F0#32
  | 39 => 0x341C2500#32
  | 40 => 0xB41F97EA#32
  | 41 => 0x342334FF#32
  | 42 => 0xB426FEBD#32
  | 43 => 0x342AF7D2#32
  | 44 => 0xB42F2322#32
  | 45 => 0x343383CC#32
  | 46 => 0xB4381D32#32
  | 47 => 0x343CF2FA#32
  | 48 => 0xB4420919#32
  | 49 => 0x344763DA#32
  | 50 => 0xB44D07E6#32
  | 51 => 0x3452FA51#32
  | 52 => 0xB45940A1#32
  | 53 => 0x345FE0DA#32
  | 54 => 0xB466E193#32
  | 55 => 0x346E49FF#32
  | 56 => 0xB4762200#32
  | 57 => 0x347E723F#32
  | 58 => 0xB483A221#32
  | 59 => 0x34885142#32
  | 60 => 0xB48D4C4D#32
  | 61 => 0x349299A5#32
  | 62 => 0xB4984061#32
  | 63 => 0x349E485F#32
  | 64 => 0xB4A4BA5F#32
  | 65 => 0x34ABA023#32
  | 66 => 0xB4B30492#32
  | 67 => 0x34BAF3E5#32
  | 68 => 0xB4C37BD6#32
  | 69 => 0x34CCABDA#32
  | 70 => 0xB4D69568#32
  | 71 => 0x34E14C49#32
  | 72 => 0xB4ECE6F7#32
  | 73 => 0x34F97F13#32
  | 74 => 0xB50398F7#32
  | 75 => 0x350B1097#32
  | 76 => 0xB51339CD#32
  | 77 => 0x351C2B08#32
  | 78 => 0xB525FE56#32
  | 79 => 0x3530D21D#32
  | 80 => 0xB53CCA00#32
  | 81 => 0x354A0FF9#32
  | 82 => 0xB558D5BB#32
  | 83 => 0x35695670#32
  | 84 => 0xB57BD8F1#32
  | 85 => 0x3588594C#32
  | 86 => 0xB5942572#32
  | 87 => 0x35A19018#32
  | 88 => 0xB5B0E6EF#32
  | 89 => 0x35C28A3B#32
  | 90 => 0xB5D6F23A#32
  | 91 => 0x35EEB658#32
  | 92 => 0xB6054B76#32
  | 93 => 0x3615C529#32
  | 94 => 0xB6296767#32
  | 95 => 0x3641014B#32
  | 96 => 0xB65DA20C#32
  | 97 => 0x368056F2#32
  | 98 => 0xB695FBC4#32
  | 99 => 0x36B0ED61#32
  | 100 => 0xB6D29E9B#32
  | 101 => 0x36FFBDB2#32
  | 102 => 0xB692EE32#32
  | 103 => 0x391EBB1A#32
  | 104 => 0x3B12D0DF#32
  | 105 => 0x3CA0086D#32
  | 106 => 0x3DBAD58B#32
  | 107 => 0x3E6BB748#32
  | 108 => 0x3EA069FE#32
  | 109 => 0x3E6BB748#32
  | 110 => 0x3DBAD58B#32
  | 111 => 0x3CA0086D#32
  | 112 => 0x3B12D0DF#32
  | 113 => 0x391EBB1A#32
  | 114 => 0xB692EE32#32
  | 115 => 0x36FFBDB2#32
  | 116 => 0xB6D29E9B#32
  | 117 => 0x36B0ED61#32
  | 118 => 0xB695FBC4#32
  | 119 => 0x368056F2#32
  | 120 => 0xB65DA20C#32
  | 121 => 0x3641014B#32
  | 122 => 0xB6296767#32
  | 123 => 0x3615C529#32
  | 124 => 0xB6054B76#32
  | 125 => 0x35EEB658#32
  | 126 => 0xB5D6F23A#32
  | 127 => 0x35C28A3B#32
  | _ => 0#32

noncomputable abbrev lit0t0_217 (i : Nat) : BitVec 32 := match i % 128 with
  | 0 => 0xB5B0E6EF#32
  | 1 => 0x35A19018#32
  | 2 => 0xB5942572#32
  | 3 => 0x3588594C#32
  | 4 => 0xB57BD8F1#32
  | 5 => 0x35695670#32
  | 6 => 0xB558D5BB#32
  | 7 => 0x354A0FF9#32
  | 8 => 0xB53CCA00#32
  | 9 => 0x3530D21D#32
  | 10 => 0xB525FE56#32
  | 11 => 0x351C2B08#32
  | 12 => 0xB51339CD#32
  | 13 => 0x350B1097#32
  | 14 => 0xB50398F7#32
  | 15 => 0x34F97F13#32
  | 16 => 0xB4ECE6F7#32
  | 17 => 0x34E14C49#32
  | 18 => 0xB4D69568#32
  | 19 => 0x34CCABDA#32
  | 20 => 0xB4C37BD6#32
  | 21 => 0x34BAF3E5#32
  | 22 => 0xB4B30492#32
  | 23 => 0x34ABA023#32
  | 24 => 0xB4A4BA5F#32
  | 25 => 0x349E485F#32
  | 26 => 0xB4984061#32
  | 27 => 0x349299A5#32
  | 28 => 0xB48D4C4D#32
  | 29 => 0x34885142#32
  | 30 => 0xB483A221#32
  | 31 => 0x347E723F#32
  | 32 => 0xB4762200#32
  | 33 => 0x346E49FF#32
  | 34 => 0xB466E193#32
  | 35 => 0x345FE0DA#32
  | 36 => 0xB45940A1#32
  | 37 => 0x3452FA51#32
  | 38 => 0xB44D07E6#32
  | 39 => 0x344763DA#32
  | 40 => 0xB4420919#32
  | 41 => 0x343CF2FA#32
  | 42 => 0xB4381D32#32
  | 43 => 0x343383CC#32
  | 44 => 0xB42F2322#32
  | 45 => 0x342AF7D2#32
  | 46 => 0xB426FEBD#32
  | 47 => 0x342334FF#32
  | 48 => 0xB41F97EA#32
  | 49 => 0x341C2500#32
  | 50 => 0xB418D9F0#32
  | 51 => 0x3415B495#32
  | 52 => 0xB412B2ED#32
  | 53 => 0x340FD31A#32
  | 54 => 0xB40D1360#32
  | 55 => 0x340A721F#32
  | 56 => 0xB407EDD1#32
  | 57 => 0x3405850C#32
  | 58 => 0xB403367C#32
  | 59 => 0x340100E3#32
  | 60 => 0xB3FDC62E#32
  | 61 => 0x33F9B800#32
  | 62 => 0xB3F5D532#32
  | 63 => 0x33F21BD6#32
  | 64 => 0xB3EE8A1F#32
  | 65 => 0x33EB1E5A#32
  | 66 => 0xB3E7D6EF#32
  | 67 => 0x33E4B25D#32
  | 68 => 0xB3E1AF3D#32
  | 69 => 0x33DECC38#32
  | 70 => 0xB3DC0810#32
  | 71 => 0x33D96196#32
  | 72 => 0xB3D6D7AE#32
  | 73 => 0x33D4694B#32
  | 74 => 0xB3D21572#32
  | 75 => 0x33CFDB34#32
  | 76 => 0xB3CDB9B1#32
  | 77 => 0x33CBB015#32
  | 78 => 0xB3C9BD97#32
  | 79 => 0x33C7E17D#32
  | 80 => 0xB3C61B15#32
  | 81 => 0x33C469B8#32
  | 82 => 0xB3C2CCC7#32
  | 83 => 0x33C143B0#32
  | 84 => 0xB3BFCDE6#32
  | 85 => 0x33BE6AE7#32
  | 86 => 0xB3BD1A36#32
  | 87 => 0x33BBDB61#32
  | 88 => 0xB3BAADFB#32
  | 89 => 0x33B9919E#32
  | 90 => 0xB3B885EC#32
  | 91 => 0x33B78A8A#32
  | 92 => 0xB3B69F28#32
  | 93 => 0x33B5C377#32
  | 94 => 0xB3B4F732#32
  | 95 => 0x33B43A15#32
  | 96 => 0xB3B38BE5#32
  | 97 => 0x33B2EC6A#32
  | 98 => 0xB3B25B72#32
  | 99 => 0x33B1D8CF#32
  | 100 => 0xB3B16459#32
  | 101 => 0x33B0FDEA#32
  | 102 => 0xB3B0A563#32
  | 103 => 0x33B05AA9#32
  | 104 => 0xB3B01DA5#32
  | 105 => 0x33AFEE43#32
  | 106 => 0xB3AFCC75#32
  | 107 => 0x33AFB831#32
  | 108 => 0xB3AFB170#32
  | 109 => 0x33AFB831#32
  | 110 => 0xB3AFCC75#32
  | 111 => 0x33AFEE43#32
  | 112 => 0xB3B01DA5#32
  | 113 => 0x33B05AA9#32
  | 114 => 0xB3B0A563#32
  | 115 => 0x33B0FDEA#32
  | 116 => 0xB3B16459#32
  | 117 => 0x33B1D8CF#32
  | 118 => 0xB3B25B72#32
  | 119 => 0x33B2EC6A#32
  | 120 => 0xB3B38BE5#32
  | 121 => 0x33B43A15#32
  | 122 => 0xB3B4F732#32
  | 123 => 0x33B5C377#32
  | 124 => 0xB3B69F28#32
  | 125 => 0x33B78A8A#32
  | 126 => 0xB3B885EC#32
  | 127 => 0x33B9919E#32
  | _ => 0#32

noncomputable abbrev lit0t0_218 (i : Nat) : BitVec 32 := match i % 128 with
  | 0 => 0x33B9919E#32
  | 1 => 0xB3BAADFB#32
  | 2 => 0x33BBDB61#32
  | 3 => 0xB3BD1A36#32
  | 4 => 0x33BE6AE7#32
  | 5 => 0xB3BFCDE6#32
  | 6 => 0x33C143B0#32
  | 7 => 0xB3C2CCC7#32
  | 8 => 0x33C469B8#32
  | 9 => 0xB3C61B15#32
  | 10 => 0x33C7E17D#32
  | 11 => 0xB3C9BD97#32
  | 12 => 0x33CBB015#32
  | 13 => 0xB3CDB9B1#32
  | 14 => 0x33CFDB34#32
  | 15 => 0xB3D21572#32
  | 16 => 0x33D4694B#32
  | 17 => 0xB3D6D7AE#32
  | 18 => 0x33D96196#32
  | 19 => 0xB3DC0810#32
  | 20 => 0x33DECC38#32
  | 21 => 0xB3E1AF3D#32
  | 22 => 0x33E4B25D#32
  | 23 => 0xB3E7D6EF#32
  | 24 => 0x33EB1E5A#32
  | 25 => 0xB3EE8A1F#32
  | 26 => 0x33F21BD6#32
  | 27 => 0xB3F5D532#32
  | 28 => 0x33F9B800#32
  | 29 => 0xB3FDC62E#32
  | 30 => 0x340100E3#32
  | 31 => 0xB403367C#32
  | 32 => 0x3405850C#32
  | 33 => 0xB407EDD1#32
  | 34 => 0x340A721F#32
  | 35 => 0xB40D1360#32
  | 36 => 0x340FD31A#32
  | 37 => 0xB412B2ED#32
  | 38 => 0x3415B495#32
  | 39 => 0xB418D9F0#32
  | 40 => 0x341C2500#32
  | 41 => 0xB41F97EA#32
  | 42 => 0x342334FF#32
  | 43 => 0xB426FEBD#32
  | 44 => 0x342AF7D2#32
  | 45 => 0xB42F2322#32
  | 46 => 0x343383CC#32
  | 47 => 0xB4381D32#32
  | 48 => 0x343CF2FA#32
  | 49 => 0xB4420919#32
  | 50 => 0x344763DA#32
  | 51 => 0xB44D07E6#32
  | 52 => 0x3452FA51#32
  | 53 => 0xB45940A1#32
  | 54 => 0x345FE0DA#32
  | 55 => 0xB466E193#32
  | 56 => 0x346E49FF#32
  | 57 => 0xB4762200#32
  | 58 => 0x347E723F#32
  | 59 => 0xB483A221#32
  | 60 => 0x34885142#32
  | 61 => 0xB48D4C4D#32
  | 62 => 0x349299A5#32
  | 63 => 0xB4984061#32
  | 64 => 0x349E485F#32
  | 65 => 0xB4A4BA5F#32
  | 66 => 0x34ABA023#32
  | 67 => 0xB4B30492#32
  | 68 => 0x34BAF3E5#32
  | 69 => 0xB4C37BD6#32
  | 70 => 0x34CCABDA#32
  | 71 => 0xB4D69568#32
  | 72 => 0x34E14C49#32
  | 73 => 0xB4ECE6F7#32
  | 74 => 0x34F97F13#32
  | 75 => 0xB50398F7#32
  | 76 => 0x350B1097#32
  | 77 => 0xB51339CD#32
  | 78 => 0x351C2B08#32
  | 79 => 0xB525FE56#32
  | 80 => 0x3530D21D#32
  | 81 => 0xB53CCA00#32
  | 82 => 0x354A0FF9#32
  | 83 => 0xB558D5BB#32
  | 84 => 0x35695670#32
  | 85 => 0xB57BD8F1#32
  | 86 => 0x3588594C#32
  | 87 => 0xB5942572#32
  | 88 => 0x35A19018#32
  | 89 => 0xB5B0E6EF#32
  | 90 => 0x35C28A3B#32
  | 91 => 0xB5D6F23A#32
  | 92 => 0x35EEB658#32
  | 93 => 0xB6054B76#32
  | 94 => 0x3615C529#32
  | 95 => 0xB6296767#32
  | 96 => 0x3641014B#32
  | 97 => 0xB65DA20C#32
  | 98 => 0x368056F2#32
  | 99 => 0xB695FBC4#32
  | 100 => 0x36B0ED61#32
  | 101 => 0xB6D29E9B#32
  | 102 => 0x36FFBDB2#32
  | 103 => 0xB692EE32#32
  | 104 => 0x391EBB1A#32
  | 105 => 0x3B12D0DF#32
  | 106 => 0x3CA0086D#32
  | 107 => 0x3DBAD58B#32
  | 108 => 0x3E6BB748#32
  | 109 => 0x3EA069FE#32
  | 110 => 0x3E6BB748#32
  | 111 => 0x3DBAD58B#32
  | 112 => 0x3CA0086D#32
  | 113 => 0x3B12D0DF#32
  | 114 => 0x391EBB1A#32
  | 115 => 0xB692EE32#32
  | 116 => 0x36FFBDB2#32
  | 117 => 0xB6D29E9B#32
  | 118 => 0x36B0ED61#32
  | 119 => 0xB695FBC4#32
  | 120 => 0x368056F2#32
  | 121 => 0xB65DA20C#32
  | 122 => 0x3641014B#32
  | 123 => 0xB6296767#32
  | 124 => 0x3615C529#32
  | 125 => 0xB6054B76#32
  | 126 => 0x35EEB658#32
  | 127 => 0xB5D6F23A#32
  | _ => 0#32

noncomputable abbrev lit0t0_219 (i : Nat) : BitVec 32 := match i % 128 with
  | 0 => 0x35C28A3B#32
  | 1 => 0xB5B0E6EF#32
  | 2 => 0x35A19018#32
  | 3 => 0xB5942572#32
  | 4 => 0x3588594C#32
  | 5 => 0xB57BD8F1#32
  | 6 => 0x35695670#32
  | 7 => 0xB558D5BB#32
  | 8 => 0x354A0FF9#32
  | 9 => 0xB53CCA00#32
  | 10 => 0x3530D21D#32
  | 11 => 0xB525FE56#32
  | 12 => 0x351C2B08#32
  | 13 => 0xB51339CD#32
  | 14 => 0x350B1097#32
  | 15 => 0xB50398F7#32
  | 16 => 0x34F97F13#32
  | 17 => 0xB4ECE6F7#32
  | 18 => 0x34E14C49#32
  | 19 => 0xB4D69568#32
  | 20 => 0x34CCABDA#32
  | 21 => 0xB4C37BD6#32
  | 22 => 0x34BAF3E5#32
  | 23 => 0xB4B30492#32
  | 24 => 0x34ABA023#32
  | 25 => 0xB4A4BA5F#32
  | 26 => 0x349E485F#32
  | 27 => 0xB4984061#32
  | 28 => 0x349299A5#32
  | 29 => 0xB48D4C4D#32
  | 30 => 0x34885143#32
  | 31 => 0xB483A221#32
  | 32 => 0x347E723F#32
  | 33 => 0xB4762200#32
  | 34 => 0x346E49FF#32
  | 35 => 0xB466E193#32
  | 36 => 0x345FE0DA#32
  | 37 => 0xB45940A1#32
  | 38 => 0x3452FA51#32
  | 39 => 0xB44D07E6#32
  | 40 => 0x344763DA#32
  | 41 => 0xB4420919#32
  | 42 => 0x343CF2FA#32
  | 43 => 0xB4381D32#32
  | 44 => 0x343383CC#32
  | 45 => 0xB42F2322#32
  | 46 => 0x342AF7D2#32
  | 47 => 0xB426FEBD#32
  | 48 => 0x342334FF#32
  | 49 => 0xB41F97EA#32
  | 50 => 0x341C2500#32
  | 51 => 0xB418D9F0#32
  | 52 => 0x3415B495#32
  | 53 => 0xB412B2ED#32
  | 54 => 0x340FD31A#32
  | 55 => 0xB40D1360#32
  | 56 => 0x340A721F#32
  | 57 => 0xB407EDD1#32
  | 58 => 0x3405850C#32
  | 59 => 0xB403367C#32
  | 60 => 0x340100E3#32
  | 61 => 0xB3FDC62E#32
  | 62 => 0x33F9B800#32
  | 63 => 0xB3F5D532#32
  | 64 => 0x33F21BD6#32
  | 65 => 0xB3EE8A1F#32
  | 66 => 0x33EB1E5A#32
  | 67 => 0xB3E7D6EF#32
  | 68 => 0x33E4B25D#32
  | 69 => 0xB3E1AF3D#32
  | 70 => 0x33DECC38#32
  | 71 => 0xB3DC0810#32
  | 72 => 0x33D96196#32
  | 73 => 0xB3D6D7AE#32
  | 74 => 0x33D4694B#32
  | 75 => 0xB3D21572#32
  | 76 => 0x33CFDB34#32
  | 77 => 0xB3CDB9B1#32
  | 78 => 0x33CBB015#32
  | 79 => 0xB3C9BD97#32
  | 80 => 0x33C7E17D#32
  | 81 => 0xB3C61B15#32
  | 82 => 0x33C469B8#32
  | 83 => 0xB3C2CCC7#32
  | 84 => 0x33C143B0#32
  | 85 => 0xB3BFCDE6#32
  | 86 => 0x33BE6AE7#32
  | 87 => 0xB3BD1A36#32
  | 88 => 0x33BBDB61#32
  | 89 => 0xB3BAADFB#32
  | 90 => 0x33B9919E#32
  | 91 => 0xB3B885EC#32
  | 92 => 0x33B78A8A#32
  | 93 => 0xB3B69F28#32
  | 94 => 0x33B5C377#32
  | 95 => 0xB3B4F732#32
  | 96 => 0x33B43A15#32
  | 97 => 0xB3B38BE5#32
  | 98 => 0x33B2EC6A#32
  | 99 => 0xB3B25B72#32
  | 100 => 0x33B1D8CF#32
  | 101 => 0xB3B16459#32
  | 102 => 0x33B0FDEA#32
  | 103 => 0xB3B0A563#32
  | 104 => 0x33B05AA9#32
  | 105 => 0xB3B01DA5#32
  | 106 => 0x33AFEE43#32
  | 107 => 0xB3AFCC75#32
  | 108 => 0x33AFB831#32
  | 109 => 0xB3AFB170#32
  | 110 => 0x33AFB831#32
  | 111 => 0xB3AFCC75#32
  | 112 => 0x33AFEE43#32
  | 113 => 0xB3B01DA5#32
  | 114 => 0x33B05AA9#32
  | 115 => 0xB3B0A563#32
  | 116 => 0x33B0FDEA#32
  | 117 => 0xB3B16459#32
  | 118 => 0x33B1D8CF#32
  | 119 => 0xB3B25B72#32
  | 120 => 0x33B2EC6A#32
  | 121 => 0xB3B38BE5#32
  | 122 => 0x33B43A15#32
  | 123 => 0xB3B4F732#32
  | 124 => 0x33B5C377#32
  | 125 => 0xB3B69F28#32
  | 126 => 0x33B78A8A#32
  | 127 => 0xB3B885EC#32
  | _ => 0#32

noncomputable abbrev lit0t0_220 (i : Nat) : BitVec 32 := match i % 128 with
  | 0 => 0xB3B885EC#32
  | 1 => 0x33B9919E#32
  | 2 => 0xB3BAADFB#32
  | 3 => 0x33BBDB61#32
  | 4 => 0xB3BD1A36#32
  | 5 => 0x33BE6AE7#32
  | 6 => 0xB3BFCDE6#32
  | 7 => 0x33C143B0#32
  | 8 => 0xB3C2CCC7#32
  | 9 => 0x33C469B8#32
  | 10 => 0xB3C61B15#32
  | 11 => 0x33C7E17D#32
  | 12 => 0xB3C9BD97#32
  | 13 => 0x33CBB015#32
  | 14 => 0xB3CDB9B1#32
  | 15 => 0x33CFDB34#32
  | 16 => 0xB3D21572#32
  | 17 => 0x33D4694B#32
  | 18 => 0xB3D6D7AE#32
  | 19 => 0x33D96196#32
  | 20 => 0xB3DC0810#32
  | 21 => 0x33DECC38#32
  | 22 => 0xB3E1AF3D#32
  | 23 => 0x33E4B25D#32
  | 24 => 0xB3E7D6EF#32
  | 25 => 0x33EB1E5A#32
  | 26 => 0xB3EE8A1F#32
  | 27 => 0x33F21BD6#32
  | 28 => 0xB3F5D532#32
  | 29 => 0x33F9B800#32
  | 30 => 0xB3FDC62E#32
  | 31 => 0x340100E3#32
  | 32 => 0xB403367C#32
  | 33 => 0x3405850C#32
  | 34 => 0xB407EDD1#32
  | 35 => 0x340A721F#32
  | 36 => 0xB40D1360#32
  | 37 => 0x340FD31A#32
  | 38 => 0xB412B2ED#32
  | 39 => 0x3415B495#32
  | 40 => 0xB418D9F0#32
  | 41 => 0x341C2500#32
  | 42 => 0xB41F97EA#32
  | 43 => 0x342334FF#32
  | 44 => 0xB426FEBD#32
  | 45 => 0x342AF7D2#32
  | 46 => 0xB42F2322#32
  | 47 => 0x343383CC#32
  | 48 => 0xB4381D32#32
  | 49 => 0x343CF2FA#32
  | 50 => 0xB4420919#32
  | 51 => 0x344763DA#32
  | 52 => 0xB44D07E6#32
  | 53 => 0x3452FA51#32
  | 54 => 0xB45940A1#32
  | 55 => 0x345FE0DA#32
  | 56 => 0xB466E193#32
  | 57 => 0x346E49FF#32
  | 58 => 0xB4762200#32
  | 59 => 0x347E723F#32
  | 60 => 0xB483A221#32
  | 61 => 0x34885142#32
  | 62 => 0xB48D4C4D#32
  | 63 => 0x349299A5#32
  | 64 => 0xB4984061#32
  | 65 => 0x349E485F#32
  | 66 => 0xB4A4BA5F#32
  | 67 => 0x34ABA023#32
  | 68 => 0xB4B30492#32
  | 69 => 0x34BAF3E5#32
  | 70 => 0xB4C37BD6#32
  | 71 => 0x34CCABDA#32
  | 72 => 0xB4D69568#32
  | 73 => 0x34E14C49#32
  | 74 => 0xB4ECE6F7#32
  | 75 => 0x34F97F13#32
  | 76 => 0xB50398F7#32
  | 77 => 0x350B1097#32
  | 78 => 0xB51339CD#32
  | 79 => 0x351C2B08#32
  | 80 => 0xB525FE56#32
  | 81 => 0x3530D21D#32
  | 82 => 0xB53CCA00#32
  | 83 => 0x354A0FF9#32
  | 84 => 0xB558D5BB#32
  | 85 => 0x35695670#32
  | 86 => 0xB57BD8F1#32
  | 87 => 0x3588594C#32
  | 88 => 0xB5942572#32
  | 89 => 0x35A19018#32
  | 90 => 0xB5B0E6EF#32
  | 91 => 0x35C28A3B#32
  | 92 => 0xB5D6F23A#32
  | 93 => 0x35EEB658#32
  | 94 => 0xB6054B76#32
  | 95 => 0x3615C529#32
  | 96 => 0xB6296767#32
  | 97 => 0x3641014B#32
  | 98 => 0xB65DA20C#32
  | 99 => 0x368056F2#32
  | 100 => 0xB695FBC4#32
  | 101 => 0x36B0ED61#32
  | 102 => 0xB6D29E9B#32
  | 103 => 0x36FFBDB2#32
  | 104 => 0xB692EE32#32
  | 105 => 0x391EBB1A#32
  | 106 => 0x3B12D0DF#32
  | 107 => 0x3CA0086D#32
  | 108 => 0x3DBAD58B#32
  | 109 => 0x3E6BB748#32
  | 110 => 0x3EA069FE#32
  | 111 => 0x3E6BB748#32
  | 112 => 0x3DBAD58B#32
  | 113 => 0x3CA0086D#32
  | 114 => 0x3B12D0DF#32
  | 115 => 0x391EBB1A#32
  | 116 => 0xB692EE32#32
  | 117 => 0x36FFBDB2#32
  | 118 => 0xB6D29E9B#32
  | 119 => 0x36B0ED61#32
  | 120 => 0xB695FBC4#32
  | 121 => 0x368056F2#32
  | 122 => 0xB65DA20C#32
  | 123 => 0x3641014B#32
  | 124 => 0xB6296767#32
  | 125 => 0x3615C529#32
  | 126 => 0xB6054B76#32
  | 127 => 0x35EEB658#32
  | _ => 0#32

noncomputable abbrev lit0t0_221 (i : Nat) : BitVec 32 := match i % 128 with
  | 0 => 0xB5D6F23A#32
  | 1 => 0x35C28A3B#32
  | 2 => 0xB5B0E6EF#32
  | 3 => 0x35A19018#32
  | 4 => 0xB5942572#32
  | 5 => 0x3588594C#32
  | 6 => 0xB57BD8F1#32
  | 7 => 0x35695670#32
  | 8 => 0xB558D5BB#32
  | 9 => 0x354A0FF9#32
  | 10 => 0xB53CCA00#32
  | 11 => 0x3530D21D#32
  | 12 => 0xB525FE56#32
  | 13 => 0x351C2B08#32
  | 14 => 0xB51339CD#32
  | 15 => 0x350B1097#32
  | 16 => 0xB50398F7#32
  | 17 => 0x34F97F13#32
  | 18 => 0xB4ECE6F7#32
  | 19 => 0x34E14C49#32
  | 20 => 0xB4D69568#32
  | 21 => 0x34CCABDA#32
  | 22 => 0xB4C37BD6#32
  | 23 => 0x34BAF3E5#32
  | 24 => 0xB4B30492#32
  | 25 => 0x34ABA023#32
  | 26 => 0xB4A4BA5F#32
  | 27 => 0x349E485F#32
  | 28 => 0xB4984061#32
  | 29 => 0x349299A5#32
  | 30 => 0xB48D4C4D#32
  | 31 => 0x34885143#32
  | 32 => 0xB483A221#32
  | 33 => 0x347E723F#32
  | 34 => 0xB4762200#32
  | 35 => 0x346E49FF#32
  | 36 => 0xB466E193#32
  | 37 => 0x345FE0DA#32
  | 38 => 0xB45940A1#32
  | 39 => 0x3452FA51#32
  | 40 => 0xB44D07E6#32
  | 41 => 0x344763DA#32
  | 42 => 0xB4420919#32
  | 43 => 0x343CF2FA#32
  | 44 => 0xB4381D32#32
  | 45 => 0x343383CC#32
  | 46 => 0xB42F2322#32
  | 47 => 0x342AF7D2#32
  | 48 => 0xB426FEBD#32
  | 49 => 0x342334FF#32
  | 50 => 0xB41F97EA#32
  | 51 => 0x341C2500#32
  | 52 => 0xB418D9F0#32
  | 53 => 0x3415B495#32
  | 54 => 0xB412B2ED#32
  | 55 => 0x340FD31A#32
  | 56 => 0xB40D1360#32
  | 57 => 0x340A721F#32
  | 58 => 0xB407EDD1#32
  | 59 => 0x3405850C#32
  | 60 => 0xB403367C#32
  | 61 => 0x340100E3#32
  | 62 => 0xB3FDC62E#32
  | 63 => 0x33F9B800#32
  | 64 => 0xB3F5D532#32
  | 65 => 0x33F21BD6#32
  | 66 => 0xB3EE8A1F#32
  | 67 => 0x33EB1E5A#32
  | 68 => 0xB3E7D6EF#32
  | 69 => 0x33E4B25D#32
  | 70 => 0xB3E1AF3D#32
  | 71 => 0x33DECC38#32
  | 72 => 0xB3DC0810#32
  | 73 => 0x33D96196#32
  | 74 => 0xB3D6D7AE#32
  | 75 => 0x33D4694B#32
  | 76 => 0xB3D21572#32
  | 77 => 0x33CFDB34#32
  | 78 => 0xB3CDB9B1#32
  | 79 => 0x33CBB015#32
  | 80 => 0xB3C9BD97#32
  | 81 => 0x33C7E17D#32
  | 82 => 0xB3C61B15#32
  | 83 => 0x33C469B8#32
  | 84 => 0xB3C2CCC7#32
  | 85 => 0x33C143B0#32
  | 86 => 0xB3BFCDE6#32
  | 87 => 0x33BE6AE7#32
  | 88 => 0xB3BD1A36#32
  | 89 => 0x33BBDB61#32
  | 90 => 0xB3BAADFB#32
  | 91 => 0x33B9919E#32
  | 92 => 0xB3B885EC#32
  | 93 => 0x33B78A8A#32
  | 94 => 0xB3B69F28#32
  | 95 => 0x33B5C377#32
  | 96 => 0xB3B4F732#32
  | 97 => 0x33B43A15#32
  | 98 => 0xB3B38BE5#32
  | 99 => 0x33B2EC6A#32
  | 100 => 0xB3B25B72#32
  | 101 => 0x33B1D8CF#32
  | 102 => 0xB3B16459#32
  | 103 => 0x33B0FDEA#32
  | 104 => 0xB3B0A563#32
  | 105 => 0x33B05AA9#32
  | 106 => 0xB3B01DA5#32
  | 107 => 0x33AFEE43#32
  | 108 => 0xB3AFCC75#32
  | 109 => 0x33AFB831#32
  | 110 => 0xB3AFB170#32
  | 111 => 0x33AFB831#32
  | 112 => 0xB3AFCC75#32
  | 113 => 0x33AFEE43#32
  | 114 => 0xB3B01DA5#32
  | 115 => 0x33B05AA9#32
  | 116 => 0xB3B0A563#32
  | 117 => 0x33B0FDEA#32
  | 118 => 0xB3B16459#32
  | 119 => 0x33B1D8CF#32
  | 120 => 0xB3B25B72#32
  | 121 => 0x33B2EC6A#32
  | 122 => 0xB3B38BE5#32
  | 123 => 0x33B43A15#32
  | 124 => 0xB3B4F732#32
  | 125 => 0x33B5C377#32
  | 126 => 0xB3B69F28#32
  | 127 => 0x33B78A8A#32
  | _ => 0#32

noncomputable abbrev lit0t0_222 (i : Nat) : BitVec 32 := match i % 128 with
  | 0 => 0x33B78A8A#32
  | 1 => 0xB3B885EC#32
  | 2 => 0x33B9919E#32
  | 3 => 0xB3BAADFB#32
  | 4 => 0x33BBDB61#32
  | 5 => 0xB3BD1A36#32
  | 6 => 0x33BE6AE7#32
  | 7 => 0xB3BFCDE6#32
  | 8 => 0x33C143B0#32
  | 9 => 0xB3C2CCC7#32
  | 10 => 0x33C469B8#32
  | 11 => 0xB3C61B15#32
  | 12 => 0x33C7E17D#32
  | 13 => 0xB3C9BD97#32
  | 14 => 0x33CBB015#32
  | 15 => 0xB3CDB9B1#32
  | 16 => 0x33CFDB34#32
  | 17 => 0xB3D21572#32
  | 18 => 0x33D4694B#32
  | 19 => 0xB3D6D7AE#32
  | 20 => 0x33D96196#32
  | 21 => 0xB3DC0810#32
  | 22 => 0x33DECC38#32
  | 23 => 0xB3E1AF3D#32
  | 24 => 0x33E4B25D#32
  | 25 => 0xB3E7D6EF#32
  | 26 => 0x33EB1E5A#32
  | 27 => 0xB3EE8A1F#32
  | 28 => 0x33F21BD6#32
  | 29 => 0xB3F5D532#32
  | 30 => 0x33F9B800#32
  | 31 => 0xB3FDC62E#32
  | 32 => 0x340100E3#32
  | 33 => 0xB403367C#32
  | 34 => 0x3405850C#32
  | 35 => 0xB407EDD1#32
  | 36 => 0x340A721F#32
  | 37 => 0xB40D1360#32
  | 38 => 0x340FD31A#32
  | 39 => 0xB412B2ED#32
  | 40 => 0x3415B495#32
  | 41 => 0xB418D9F0#32
  | 42 => 0x341C2500#32
  | 43 => 0xB41F97EA#32
  | 44 => 0x342334FF#32
  | 45 => 0xB426FEBD#32
  | 46 => 0x342AF7D2#32
  | 47 => 0xB42F2322#32
  | 48 => 0x343383CC#32
  | 49 => 0xB4381D32#32
  | 50 => 0x343CF2FA#32
  | 51 => 0xB4420919#32
  | 52 => 0x344763DA#32
  | 53 => 0xB44D07E6#32
  | 54 => 0x3452FA51#32
  | 55 => 0xB45940A1#32
  | 56 => 0x345FE0DA#32
  | 57 => 0xB466E193#32
  | 58 => 0x346E49FF#32
  | 59 => 0xB4762200#32
  | 60 => 0x347E723F#32
  | 61 => 0xB483A221#32
  | 62 => 0x34885143#32
  | 63 => 0xB48D4C4D#32
  | 64 => 0x349299A5#32
  | 65 => 0xB4984061#32
  | 66 => 0x349E485F#32
  | 67 => 0xB4A4BA5F#32
  | 68 => 0x34ABA023#32
  | 69 => 0xB4B30492#32
  | 70 => 0x34BAF3E5#32
  | 71 => 0xB4C37BD6#32
  | 72 => 0x34CCABDA#32
  | 73 => 0xB4D69568#32
  | 74 => 0x34E14C49#32
  | 75 => 0xB4ECE6F7#32
  | 76 => 0x34F97F13#32
  | 77 => 0xB50398F7#32
  | 78 => 0x350B1097#32
  | 79 => 0xB51339CD#32
  | 80 => 0x351C2B08#32
  | 81 => 0xB525FE56#32
  | 82 => 0x3530D21D#32
  | 83 => 0xB53CCA00#32
  | 84 => 0x354A0FF9#32
  | 85 => 0xB558D5BB#32
  | 86 => 0x35695670#32
  | 87 => 0xB57BD8F1#32
  | 88 => 0x3588594C#32
  | 89 => 0xB5942572#32
  | 90 => 0x35A19018#32
  | 91 => 0xB5B0E6EF#32
  | 92 => 0x35C28A3B#32
  | 93 => 0xB5D6F23A#32
  | 94 => 0x35EEB658#32
  | 95 => 0xB6054B76#32
  | 96 => 0x3615C529#32
  | 97 => 0xB6296767#32
  | 98 => 0x3641014B#32
  | 99 => 0xB65DA20C#32
  | 100 => 0x368056F2#32
  | 101 => 0xB695FBC4#32
  | 102 => 0x36B0ED61#32
  | 103 => 0xB6D29E9B#32
  | 104 => 0x36FFBDB2#32
  | 105 => 0xB692EE32#32
  | 106 => 0x391EBB1A#32
  | 107 => 0x3B12D0DF#32
  | 108 => 0x3CA0086D#32
  | 109 => 0x3DBAD58B#32
  | 110 => 0x3E6BB748#32
  | 111 => 0x3EA069FE#32
  | 112 => 0x3E6BB748#32
  | 113 => 0x3DBAD58B#32
  | 114 => 0x3CA0086D#32
  | 115 => 0x3B12D0DF#32
  | 116 => 0x391EBB1A#32
  | 117 => 0xB692EE32#32
  | 118 => 0x36FFBDB2#32
  | 119 => 0xB6D29E9B#32
  | 120 => 0x36B0ED61#32
  | 121 => 0xB695FBC4#32
  | 122 => 0x368056F2#32
  | 123 => 0xB65DA20C#32
  | 124 => 0x3641014B#32
  | 125 => 0xB6296767#32
  | 126 => 0x3615C529#32
  | 127 => 0xB6054B76#32
  | _ => 0#32

noncomputable abbrev lit0t0_223 (i : Nat) : BitVec 32 := match i % 128 with
  | 0 => 0x35EEB658#32
  | 1 => 0xB5D6F23A#32
  | 2 => 0x35C28A3B#32
  | 3 => 0xB5B0E6EF#32
  | 4 => 0x35A19018#32
  | 5 => 0xB5942572#32
  | 6 => 0x3588594C#32
  | 7 => 0xB57BD8F1#32
  | 8 => 0x35695670#32
  | 9 => 0xB558D5BB#32
  | 10 => 0x354A0FF9#32
  | 11 => 0xB53CCA00#32
  | 12 => 0x3530D21D#32
  | 13 => 0xB525FE56#32
  | 14 => 0x351C2B08#32
  | 15 => 0xB51339CD#32
  | 16 => 0x350B1097#32
  | 17 => 0xB50398F7#32
  | 18 => 0x34F97F13#32
  | 19 => 0xB4ECE6F7#32
  | 20 => 0x34E14C49#32
  | 21 => 0xB4D69568#32
  | 22 => 0x34CCABDA#32
  | 23 => 0xB4C37BD6#32
  | 24 => 0x34BAF3E5#32
  | 25 => 0xB4B30492#32
  | 26 => 0x34ABA023#32
  | 27 => 0xB4A4BA5F#32
  | 28 => 0x349E485F#32
  | 29 => 0xB4984061#32
  | 30 => 0x349299A5#32
  | 31 => 0xB48D4C4D#32
  | 32 => 0x34885143#32
  | 33 => 0xB483A221#32
  | 34 => 0x347E723F#32
  | 35 => 0xB4762200#32
  | 36 => 0x346E49FF#32
  | 37 => 0xB466E193#32
  | 38 => 0x345FE0DA#32
  | 39 => 0xB45940A1#32
  | 40 => 0x3452FA51#32
  | 41 => 0xB44D07E6#32
  | 42 => 0x344763DA#32
  | 43 => 0xB4420919#32
  | 44 => 0x343CF2FA#32
  | 45 => 0xB4381D32#32
  | 46 => 0x343383CC#32
  | 47 => 0xB42F2322#32
  | 48 => 0x342AF7D2#32
  | 49 => 0xB426FEBD#32
  | 50 => 0x342334FF#32
  | 51 => 0xB41F97EA#32
  | 52 => 0x341C2500#32
  | 53 => 0xB418D9F0#32
  | 54 => 0x3415B495#32
  | 55 => 0xB412B2ED#32
  | 56 => 0x340FD31A#32
  | 57 => 0xB40D1360#32
  | 58 => 0x340A721F#32
  | 59 => 0xB407EDD1#32
  | 60 => 0x3405850C#32
  | 61 => 0xB403367C#32
  | 62 => 0x340100E3#32
  | 63 => 0xB3FDC62E#32
  | 64 => 0x33F9B800#32
  | 65 => 0xB3F5D532#32
  | 66 => 0x33F21BD6#32
  | 67 => 0xB3EE8A1F#32
  | 68 => 0x33EB1E5A#32
  | 69 => 0xB3E7D6EF#32
  | 70 => 0x33E4B25D#32
  | 71 => 0xB3E1AF3D#32
  | 72 => 0x33DECC38#32
  | 73 => 0xB3DC0810#32
  | 74 => 0x33D96196#32
  | 75 => 0xB3D6D7AE#32
  | 76 => 0x33D4694B#32
  | 77 => 0xB3D21572#32
  | 78 => 0x33CFDB34#32
  | 79 => 0xB3CDB9B1#32
  | 80 => 0x33CBB015#32
  | 81 => 0xB3C9BD97#32
  | 82 => 0x33C7E17D#32
  | 83 => 0xB3C61B15#32
  | 84 => 0x33C469B8#32
  | 85 => 0xB3C2CCC7#32
  | 86 => 0x33C143B0#32
  | 87 => 0xB3BFCDE6#32
  | 88 => 0x33BE6AE7#32
  | 89 => 0xB3BD1A36#32
  | 90 => 0x33BBDB61#32
  | 91 => 0xB3BAADFB#32
  | 92 => 0x33B9919E#32
  | 93 => 0xB3B885EC#32
  | 94 => 0x33B78A8A#32
  | 95 => 0xB3B69F28#32
  | 96 => 0x33B5C377#32
  | 97 => 0xB3B4F732#32
  | 98 => 0x33B43A15#32
  | 99 => 0xB3B38BE5#32
  | 100 => 0x33B2EC6A#32
  | 101 => 0xB3B25B72#32
  | 102 => 0x33B1D8CF#32
  | 103 => 0xB3B16459#32
  | 104 => 0x33B0FDEA#32
  | 105 => 0xB3B0A563#32
  | 106 => 0x33B05AA9#32
  | 107 => 0xB3B01DA5#32
  | 108 => 0x33AFEE43#32
  | 109 => 0xB3AFCC75#32
  | 110 => 0x33AFB831#32
  | 111 => 0xB3AFB170#32
  | 112 => 0x33AFB831#32
  | 113 => 0xB3AFCC75#32
  | 114 => 0x33AFEE43#32
  | 115 => 0xB3B01DA5#32
  | 116 => 0x33B05AA9#32
  | 117 => 0xB3B0A563#32
  | 118 => 0x33B0FDEA#32
  | 119 => 0xB3B16459#32
  | 120 => 0x33B1D8CF#32
  | 121 => 0xB3B25B72#32
  | 122 => 0x33B2EC6A#32
  | 123 => 0xB3B38BE5#32
  | 124 => 0x33B43A15#32
  | 125 => 0xB3B4F732#32
  | 126 => 0x33B5C377#32
  | 127 => 0xB3B69F28#32
  | _ => 0#32

noncomputable abbrev lit0t0_224 (i : Nat) : BitVec 32 := match i % 128 with
  | 0 => 0xB3B69F28#32
  | 1 => 0x33B78A8A#32
  | 2 => 0xB3B885EC#32
  | 3 => 0x33B9919E#32
  | 4 => 0xB3BAADFB#32
  | 5 => 0x33BBDB61#32
  | 6 => 0xB3BD1A36#32
  | 7 => 0x33BE6AE7#32
  | 8 => 0xB3BFCDE6#32
  | 9 => 0x33C143B0#32
  | 10 => 0xB3C2CCC7#32
  | 11 => 0x33C469B8#32
  | 12 => 0xB3C61B15#32
  | 13 => 0x33C7E17D#32
  | 14 => 0xB3C9BD97#32
  | 15 => 0x33CBB015#32
  | 16 => 0xB3CDB9B1#32
  | 17 => 0x33CFDB34#32
  | 18 => 0xB3D21572#32
  | 19 => 0x33D4694B#32
  | 20 => 0xB3D6D7AE#32
  | 21 => 0x33D96196#32
  | 22 => 0xB3DC0810#32
  | 23 => 0x33DECC38#32
  | 24 => 0xB3E1AF3D#32
  | 25 => 0x33E4B25D#32
  | 26 => 0xB3E7D6EF#32
  | 27 => 0x33EB1E5A#32
  | 28 => 0xB3EE8A1F#32
  | 29 => 0x33F21BD6#32
  | 30 => 0xB3F5D532#32
  | 31 => 0x33F9B800#32
  | 32 => 0xB3FDC62E#32
  | 33 => 0x340100E3#32
  | 34 => 0xB403367C#32
  | 35 => 0x3405850C#32
  | 36 => 0xB407EDD1#32
  | 37 => 0x340A721F#32
  | 38 => 0xB40D1360#32
  | 39 => 0x340FD31A#32
  | 40 => 0xB412B2ED#32
  | 41 => 0x3415B495#32
  | 42 => 0xB418D9F0#32
  | 43 => 0x341C2500#32
  | 44 => 0xB41F97EA#32
  | 45 => 0x342334FF#32
  | 46 => 0xB426FEBD#32
  | 47 => 0x342AF7D2#32
  | 48 => 0xB42F2322#32
  | 49 => 0x343383CC#32
  | 50 => 0xB4381D32#32
  | 51 => 0x343CF2FA#32
  | 52 => 0xB4420919#32
  | 53 => 0x344763DA#32
  | 54 => 0xB44D07E6#32
  | 55 => 0x3452FA51#32
  | 56 => 0xB45940A1#32
  | 57 => 0x345FE0DA#32
  | 58 => 0xB466E193#32
  | 59 => 0x346E49FF#32
  | 60 => 0xB4762200#32
  | 61 => 0x347E723F#32
  | 62 => 0xB483A221#32
  | 63 => 0x34885143#32
  | 64 => 0xB48D4C4D#32
  | 65 => 0x349299A5#32
  | 66 => 0xB4984061#32
  | 67 => 0x349E485F#32
  | 68 => 0xB4A4BA5F#32
  | 69 => 0x34ABA023#32
  | 70 => 0xB4B30492#32
  | 71 => 0x34BAF3E5#32
  | 72 => 0xB4C37BD6#32
  | 73 => 0x34CCABDA#32
  | 74 => 0xB4D69568#32
  | 75 => 0x34E14C49#32
  | 76 => 0xB4ECE6F7#32
  | 77 => 0x34F97F13#32
  | 78 => 0xB50398F7#32
  | 79 => 0x350B1097#32
  | 80 => 0xB51339CD#32
  | 81 => 0x351C2B08#32
  | 82 => 0xB525FE56#32
  | 83 => 0x3530D21D#32
  | 84 => 0xB53CCA00#32
  | 85 => 0x354A0FF9#32
  | 86 => 0xB558D5BB#32
  | 87 => 0x35695670#32
  | 88 => 0xB57BD8F1#32
  | 89 => 0x3588594C#32
  | 90 => 0xB5942572#32
  | 91 => 0x35A19018#32
  | 92 => 0xB5B0E6EF#32
  | 93 => 0x35C28A3B#32
  | 94 => 0xB5D6F23A#32
  | 95 => 0x35EEB658#32
  | 96 => 0xB6054B76#32
  | 97 => 0x3615C529#32
  | 98 => 0xB6296767#32
  | 99 => 0x3641014B#32
  | 100 => 0xB65DA20C#32
  | 101 => 0x368056F2#32
  | 102 => 0xB695FBC4#32
  | 103 => 0x36B0ED61#32
  | 104 => 0xB6D29E9B#32
  | 105 => 0x36FFBDB2#32
  | 106 => 0xB692EE32#32
  | 107 => 0x391EBB1A#32
  | 108 => 0x3B12D0DF#32
  | 109 => 0x3CA0086D#32
  | 110 => 0x3DBAD58B#32
  | 111 => 0x3E6BB748#32
  | 112 => 0x3EA069FE#32
  | 113 => 0x3E6BB748#32
  | 114 => 0x3DBAD58B#32
  | 115 => 0x3CA0086D#32
  | 116 => 0x3B12D0DF#32
  | 117 => 0x391EBB1A#32
  | 118 => 0xB692EE32#32
  | 119 => 0x36FFBDB2#32
  | 120 => 0xB6D29E9B#32
  | 121 => 0x36B0ED61#32
  | 122 => 0xB695FBC4#32
  | 123 => 0x368056F2#32
  | 124 => 0xB65DA20C#32
  | 125 => 0x3641014B#32
  | 126 => 0xB6296767#32
  | 127 => 0x3615C529#32
  | _ => 0#32

noncomputable abbrev lit0t0_225 (i : Nat) : BitVec 32 := match i % 128 with
  | 0 => 0xB6054B76#32
  | 1 => 0x35EEB658#32
  | 2 => 0xB5D6F23A#32
  | 3 => 0x35C28A3B#32
  | 4 => 0xB5B0E6EF#32
  | 5 => 0x35A19018#32
  | 6 => 0xB5942572#32
  | 7 => 0x3588594C#32
  | 8 => 0xB57BD8F1#32
  | 9 => 0x35695670#32
  | 10 => 0xB558D5BB#32
  | 11 => 0x354A0FF9#32
  | 12 => 0xB53CCA00#32
  | 13 => 0x3530D21D#32
  | 14 => 0xB525FE56#32
  | 15 => 0x351C2B08#32
  | 16 => 0xB51339CD#32
  | 17 => 0x350B1097#32
  | 18 => 0xB50398F7#32
  | 19 => 0x34F97F13#32
  | 20 => 0xB4ECE6F7#32
  | 21 => 0x34E14C49#32
  | 22 => 0xB4D69568#32
  | 23 => 0x34CCABDA#32
  | 24 => 0xB4C37BD6#32
  | 25 => 0x34BAF3E5#32
  | 26 => 0xB4B30492#32
  | 27 => 0x34ABA023#32
  | 28 => 0xB4A4BA5F#32
  | 29 => 0x349E485F#32
  | 30 => 0xB4984061#32
  | 31 => 0x349299A5#32
  | 32 => 0xB48D4C4D#32
  | 33 => 0x34885143#32
  | 34 => 0xB483A221#32
  | 35 => 0x347E723F#32
  | 36 => 0xB4762200#32
  | 37 => 0x346E49FF#32
  | 38 => 0xB466E193#32
  | 39 => 0x345FE0DA#32
  | 40 => 0xB45940A1#32
  | 41 => 0x3452FA51#32
  | 42 => 0xB44D07E6#32
  | 43 => 0x344763DA#32
  | 44 => 0xB4420919#32
  | 45 => 0x343CF2FA#32
  | 46 => 0xB4381D32#32
  | 47 => 0x343383CC#32
  | 48 => 0xB42F2322#32
  | 49 => 0x342AF7D2#32
  | 50 => 0xB426FEBD#32
  | 51 => 0x342334FF#32
  | 52 => 0xB41F97EA#32
  | 53 => 0x341C2500#32
  | 54 => 0xB418D9F0#32
  | 55 => 0x3415B495#32
  | 56 => 0xB412B2ED#32
  | 57 => 0x340FD31A#32
  | 58 => 0xB40D1360#32
  | 59 => 0x340A721F#32
  | 60 => 0xB407EDD1#32
  | 61 => 0x3405850C#32
  | 62 => 0xB403367C#32
  | 63 => 0x340100E3#32
  | 64 => 0xB3FDC62E#32
  | 65 => 0x33F9B800#32
  | 66 => 0xB3F5D532#32
  | 67 => 0x33F21BD6#32
  | 68 => 0xB3EE8A1F#32
  | 69 => 0x33EB1E5A#32
  | 70 => 0xB3E7D6EF#32
  | 71 => 0x33E4B25D#32
  | 72 => 0xB3E1AF3D#32
  | 73 => 0x33DECC38#32
  | 74 => 0xB3DC0810#32
  | 75 => 0x33D96196#32
  | 76 => 0xB3D6D7AE#32
  | 77 => 0x33D4694B#32
  | 78 => 0xB3D21572#32
  | 79 => 0x33CFDB34#32
  | 80 => 0xB3CDB9B1#32
  | 81 => 0x33CBB015#32
  | 82 => 0xB3C9BD97#32
  | 83 => 0x33C7E17D#32
  | 84 => 0xB3C61B15#32
  | 85 => 0x33C469B8#32
  | 86 => 0xB3C2CCC7#32
  | 87 => 0x33C143B0#32
  | 88 => 0xB3BFCDE6#32
  | 89 => 0x33BE6AE7#32
  | 90 => 0xB3BD1A36#32
  | 91 => 0x33BBDB61#32
  | 92 => 0xB3BAADFB#32
  | 93 => 0x33B9919E#32
  | 94 => 0xB3B885EC#32
  | 95 => 0x33B78A8A#32
  | 96 => 0xB3B69F28#32
  | 97 => 0x33B5C377#32
  | 98 => 0xB3B4F732#32
  | 99 => 0x33B43A15#32
  | 100 => 0xB3B38BE5#32
  | 101 => 0x33B2EC6A#32
  | 102 => 0xB3B25B72#32
  | 103 => 0x33B1D8CF#32
  | 104 => 0xB3B16459#32
  | 105 => 0x33B0FDEA#32
  | 106 => 0xB3B0A563#32
  | 107 => 0x33B05AA9#32
  | 108 => 0xB3B01DA5#32
  | 109 => 0x33AFEE43#32
  | 110 => 0xB3AFCC75#32
  | 111 => 0x33AFB831#32
  | 112 => 0xB3AFB170#32
  | 113 => 0x33AFB831#32
  | 114 => 0xB3AFCC75#32
  | 115 => 0x33AFEE43#32
  | 116 => 0xB3B01DA5#32
  | 117 => 0x33B05AA9#32
  | 118 => 0xB3B0A563#32
  | 119 => 0x33B0FDEA#32
  | 120 => 0xB3B16459#32
  | 121 => 0x33B1D8CF#32
  | 122 => 0xB3B25B72#32
  | 123 => 0x33B2EC6A#32
  | 124 => 0xB3B38BE5#32
  | 125 => 0x33B43A15#32
  | 126 => 0xB3B4F732#32
  | 127 => 0x33B5C377#32
  | _ => 0#32

noncomputable abbrev lit0t0_226 (i : Nat) : BitVec 32 := match i % 128 with
  | 0 => 0x33B5C377#32
  | 1 => 0xB3B69F28#32
  | 2 => 0x33B78A8A#32
  | 3 => 0xB3B885EC#32
  | 4 => 0x33B9919E#32
  | 5 => 0xB3BAADFB#32
  | 6 => 0x33BBDB61#32
  | 7 => 0xB3BD1A36#32
  | 8 => 0x33BE6AE7#32
  | 9 => 0xB3BFCDE6#32
  | 10 => 0x33C143B0#32
  | 11 => 0xB3C2CCC7#32
  | 12 => 0x33C469B8#32
  | 13 => 0xB3C61B15#32
  | 14 => 0x33C7E17D#32
  | 15 => 0xB3C9BD97#32
  | 16 => 0x33CBB015#32
  | 17 => 0xB3CDB9B1#32
  | 18 => 0x33CFDB34#32
  | 19 => 0xB3D21572#32
  | 20 => 0x33D4694B#32
  | 21 => 0xB3D6D7AE#32
  | 22 => 0x33D96196#32
  | 23 => 0xB3DC0810#32
  | 24 => 0x33DECC38#32
  | 25 => 0xB3E1AF3D#32
  | 26 => 0x33E4B25D#32
  | 27 => 0xB3E7D6EF#32
  | 28 => 0x33EB1E5A#32
  | 29 => 0xB3EE8A1F#32
  | 30 => 0x33F21BD6#32
  | 31 => 0xB3F5D532#32
  | 32 => 0x33F9B800#32
  | 33 => 0xB3FDC62E#32
  | 34 => 0x340100E3#32
  | 35 => 0xB403367C#32
  | 36 => 0x3405850C#32
  | 37 => 0xB407EDD1#32
  | 38 => 0x340A721F#32
  | 39 => 0xB40D1360#32
  | 40 => 0x340FD31A#32
  | 41 => 0xB412B2ED#32
  | 42 => 0x3415B495#32
  | 43 => 0xB418D9F0#32
  | 44 => 0x341C2500#32
  | 45 => 0xB41F97EA#32
  | 46 => 0x342334FF#32
  | 47 => 0xB426FEBD#32
  | 48 => 0x342AF7D2#32
  | 49 => 0xB42F2322#32
  | 50 => 0x343383CC#32
  | 51 => 0xB4381D32#32
  | 52 => 0x343CF2FA#32
  | 53 => 0xB4420919#32
  | 54 => 0x344763DA#32
  | 55 => 0xB44D07E6#32
  | 56 => 0x3452FA51#32
  | 57 => 0xB45940A1#32
  | 58 => 0x345FE0DA#32
  | 59 => 0xB466E193#32
  | 60 => 0x346E49FF#32
  | 61 => 0xB4762200#32
  | 62 => 0x347E723F#32
  | 63 => 0xB483A221#32
  | 64 => 0x34885143#32
  | 65 => 0xB48D4C4D#32
  | 66 => 0x349299A5#32
  | 67 => 0xB4984061#32
  | 68 => 0x349E485F#32
  | 69 => 0xB4A4BA5F#32
  | 70 => 0x34ABA023#32
  | 71 => 0xB4B30492#32
  | 72 => 0x34BAF3E5#32
  | 73 => 0xB4C37BD6#32
  | 74 => 0x34CCABDA#32
  | 75 => 0xB4D69568#32
  | 76 => 0x34E14C49#32
  | 77 => 0xB4ECE6F7#32
  | 78 => 0x34F97F13#32
  | 79 => 0xB50398F7#32
  | 80 => 0x350B1097#32
  | 81 => 0xB51339CD#32
  | 82 => 0x351C2B08#32
  | 83 => 0xB525FE56#32
  | 84 => 0x3530D21D#32
  | 85 => 0xB53CCA00#32
  | 86 => 0x354A0FF9#32
  | 87 => 0xB558D5BB#32
  | 88 => 0x35695670#32
  | 89 => 0xB57BD8F1#32
  | 90 => 0x3588594C#32
  | 91 => 0xB5942572#32
  | 92 => 0x35A19018#32
  | 93 => 0xB5B0E6EF#32
  | 94 => 0x35C28A3B#32
  | 95 => 0xB5D6F23A#32
  | 96 => 0x35EEB658#32
  | 97 => 0xB6054B76#32
  | 98 => 0x3615C529#32
  | 99 => 0xB6296767#32
  | 100 => 0x3641014B#32
  | 101 => 0xB65DA20C#32
  | 102 => 0x368056F2#32
  | 103 => 0xB695FBC4#32
  | 104 => 0x36B0ED61#32
  | 105 => 0xB6D29E9B#32
  | 106 => 0x36FFBDB2#32
  | 107 => 0xB692EE32#32
  | 108 => 0x391EBB1A#32
  | 109 => 0x3B12D0DF#32
  | 110 => 0x3CA0086D#32
  | 111 => 0x3DBAD58B#32
  | 112 => 0x3E6BB748#32
  | 113 => 0x3EA069FE#32
  | 114 => 0x3E6BB748#32
  | 115 => 0x3DBAD58B#32
  | 116 => 0x3CA0086D#32
  | 117 => 0x3B12D0DF#32
  | 118 => 0x391EBB1A#32
  | 119 => 0xB692EE32#32
  | 120 => 0x36FFBDB2#32
  | 121 => 0xB6D29E9B#32
  | 122 => 0x36B0ED61#32
  | 123 => 0xB695FBC4#32
  | 124 => 0x368056F2#32
  | 125 => 0xB65DA20C#32
  | 126 => 0x3641014B#32
  | 127 => 0xB6296767#32
  | _ => 0#32

noncomputable abbrev lit0t0_227 (i : Nat) : BitVec 32 := match i % 128 with
  | 0 => 0x3615C529#32
  | 1 => 0xB6054B76#32
  | 2 => 0x35EEB658#32
  | 3 => 0xB5D6F23A#32
  | 4 => 0x35C28A3B#32
  | 5 => 0xB5B0E6EF#32
  | 6 => 0x35A19018#32
  | 7 => 0xB5942572#32
  | 8 => 0x3588594C#32
  | 9 => 0xB57BD8F1#32
  | 10 => 0x35695670#32
  | 11 => 0xB558D5BB#32
  | 12 => 0x354A0FF9#32
  | 13 => 0xB53CCA00#32
  | 14 => 0x3530D21D#32
  | 15 => 0xB525FE56#32
  | 16 => 0x351C2B08#32
  | 17 => 0xB51339CD#32
  | 18 => 0x350B1097#32
  | 19 => 0xB50398F7#32
  | 20 => 0x34F97F13#32
  | 21 => 0xB4ECE6F7#32
  | 22 => 0x34E14C49#32
  | 23 => 0xB4D69568#32
  | 24 => 0x34CCABDA#32
  | 25 => 0xB4C37BD6#32
  | 26 => 0x34BAF3E5#32
  | 27 => 0xB4B30492#32
  | 28 => 0x34ABA023#32
  | 29 => 0xB4A4BA5F#32
  | 30 => 0x349E485F#32
  | 31 => 0xB4984061#32
  | 32 => 0x349299A5#32
  | 33 => 0xB48D4C4D#32
  | 34 => 0x34885143#32
  | 35 => 0xB483A221#32
  | 36 => 0x347E723F#32
  | 37 => 0xB4762200#32
  | 38 => 0x346E49FF#32
  | 39 => 0xB466E193#32
  | 40 => 0x345FE0DA#32
  | 41 => 0xB45940A1#32
  | 42 => 0x3452FA51#32
  | 43 => 0xB44D07E6#32
  | 44 => 0x344763DA#32
  | 45 => 0xB4420919#32
  | 46 => 0x343CF2FA#32
  | 47 => 0xB4381D32#32
  | 48 => 0x343383CC#32
  | 49 => 0xB42F2322#32
  | 50 => 0x342AF7D2#32
  | 51 => 0xB426FEBD#32
  | 52 => 0x342334FF#32
  | 53 => 0xB41F97EA#32
  | 54 => 0x341C2500#32
  | 55 => 0xB418D9F0#32
  | 56 => 0x3415B495#32
  | 57 => 0xB412B2ED#32
  | 58 => 0x340FD31A#32
  | 59 => 0xB40D1360#32
  | 60 => 0x340A721F#32
  | 61 => 0xB407EDD1#32
  | 62 => 0x3405850C#32
  | 63 => 0xB403367C#32
  | 64 => 0x340100E3#32
  | 65 => 0xB3FDC62E#32
  | 66 => 0x33F9B800#32
  | 67 => 0xB3F5D532#32
  | 68 => 0x33F21BD6#32
  | 69 => 0xB3EE8A1F#32
  | 70 => 0x33EB1E5A#32
  | 71 => 0xB3E7D6EF#32
  | 72 => 0x33E4B25D#32
  | 73 => 0xB3E1AF3D#32
  | 74 => 0x33DECC38#32
  | 75 => 0xB3DC0810#32
  | 76 => 0x33D96196#32
  | 77 => 0xB3D6D7AE#32
  | 78 => 0x33D4694B#32
  | 79 => 0xB3D21572#32
  | 80 => 0x33CFDB34#32
  | 81 => 0xB3CDB9B1#32
  | 82 => 0x33CBB015#32
  | 83 => 0xB3C9BD97#32
  | 84 => 0x33C7E17D#32
  | 85 => 0xB3C61B15#32
  | 86 => 0x33C469B8#32
  | 87 => 0xB3C2CCC7#32
  | 88 => 0x33C143B0#32
  | 89 => 0xB3BFCDE6#32
  | 90 => 0x33BE6AE7#32
  | 91 => 0xB3BD1A36#32
  | 92 => 0x33BBDB61#32
  | 93 => 0xB3BAADFB#32
  | 94 => 0x33B9919E#32
  | 95 => 0xB3B885EC#32
  | 96 => 0x33B78A8A#32
  | 97 => 0xB3B69F28#32
  | 98 => 0x33B5C377#32
  | 99 => 0xB3B4F732#32
  | 100 => 0x33B43A15#32
  | 101 => 0xB3B38BE5#32
  | 102 => 0x33B2EC6A#32
  | 103 => 0xB3B25B72#32
  | 104 => 0x33B1D8CF#32
  | 105 => 0xB3B16459#32
  | 106 => 0x33B0FDEA#32
  | 107 => 0xB3B0A563#32
  | 108 => 0x33B05AA9#32
  | 109 => 0xB3B01DA5#32
  | 110 => 0x33AFEE43#32
  | 111 => 0xB3AFCC75#32
  | 112 => 0x33AFB831#32
  | 113 => 0xB3AFB170#32
  | 114 => 0x33AFB831#32
  | 115 => 0xB3AFCC75#32
  | 116 => 0x33AFEE43#32
  | 117 => 0xB3B01DA5#32
  | 118 => 0x33B05AA9#32
  | 119 => 0xB3B0A563#32
  | 120 => 0x33B0FDEA#32
  | 121 => 0xB3B16459#32
  | 122 => 0x33B1D8CF#32
  | 123 => 0xB3B25B72#32
  | 124 => 0x33B2EC6A#32
  | 125 => 0xB3B38BE5#32
  | 126 => 0x33B43A15#32
  | 127 => 0xB3B4F732#32
  | _ => 0#32

noncomputable abbrev lit0t0_228 (i : Nat) : BitVec 32 := match i % 128 with
  | 0 => 0xB3B4F732#32
  | 1 => 0x33B5C377#32
  | 2 => 0xB3B69F28#32
  | 3 => 0x33B78A8A#32
  | 4 => 0xB3B885EC#32
  | 5 => 0x33B9919E#32
  | 6 => 0xB3BAADFB#32
  | 7 => 0x33BBDB61#32
  | 8 => 0xB3BD1A36#32
  | 9 => 0x33BE6AE7#32
  | 10 => 0xB3BFCDE6#32
  | 11 => 0x33C143B0#32
  | 12 => 0xB3C2CCC7#32
  | 13 => 0x33C469B8#32
  | 14 => 0xB3C61B15#32
  | 15 => 0x33C7E17D#32
  | 16 => 0xB3C9BD97#32
  | 17 => 0x33CBB015#32
  | 18 => 0xB3CDB9B1#32
  | 19 => 0x33CFDB34#32
  | 20 => 0xB3D21572#32
  | 21 => 0x33D4694B#32
  | 22 => 0xB3D6D7AE#32
  | 23 => 0x33D96196#32
  | 24 => 0xB3DC0810#32
  | 25 => 0x33DECC38#32
  | 26 => 0xB3E1AF3D#32
  | 27 => 0x33E4B25D#32
  | 28 => 0xB3E7D6EF#32
  | 29 => 0x33EB1E5A#32
  | 30 => 0xB3EE8A1F#32
  | 31 => 0x33F21BD6#32
  | 32 => 0xB3F5D532#32
  | 33 => 0x33F9B800#32
  | 34 => 0xB3FDC62E#32
  | 35 => 0x340100E3#32
  | 36 => 0xB403367C#32
  | 37 => 0x3405850C#32
  | 38 => 0xB407EDD1#32
  | 39 => 0x340A721F#32
  | 40 => 0xB40D1360#32
  | 41 => 0x340FD31A#32
  | 42 => 0xB412B2ED#32
  | 43 => 0x3415B495#32
  | 44 => 0xB418D9F0#32
  | 45 => 0x341C2500#32
  | 46 => 0xB41F97EA#32
  | 47 => 0x342334FF#32
  | 48 => 0xB426FEBD#32
  | 49 => 0x342AF7D2#32
  | 50 => 0xB42F2322#32
  | 51 => 0x343383CC#32
  | 52 => 0xB4381D32#32
  | 53 => 0x343CF2FA#32
  | 54 => 0xB4420919#32
  | 55 => 0x344763DA#32
  | 56 => 0xB44D07E6#32
  | 57 => 0x3452FA51#32
  | 58 => 0xB45940A1#32
  | 59 => 0x345FE0DA#32
  | 60 => 0xB466E193#32
  | 61 => 0x346E49FF#32
  | 62 => 0xB4762200#32
  | 63 => 0x347E723F#32
  | 64 => 0xB483A221#32
  | 65 => 0x34885143#32
  | 66 => 0xB48D4C4D#32
  | 67 => 0x349299A5#32
  | 68 => 0xB4984061#32
  | 69 => 0x349E485F#32
  | 70 => 0xB4A4BA5F#32
  | 71 => 0x34ABA023#32
  | 72 => 0xB4B30492#32
  | 73 => 0x34BAF3E5#32
  | 74 => 0xB4C37BD6#32
  | 75 => 0x34CCABDA#32
  | 76 => 0xB4D69568#32
  | 77 => 0x34E14C49#32
  | 78 => 0xB4ECE6F7#32
  | 79 => 0x34F97F13#32
  | 80 => 0xB50398F7#32
  | 81 => 0x350B1097#32
  | 82 => 0xB51339CD#32
  | 83 => 0x351C2B08#32
  | 84 => 0xB525FE56#32
  | 85 => 0x3530D21D#32
  | 86 => 0xB53CCA00#32
  | 87 => 0x354A0FF9#32
  | 88 => 0xB558D5BB#32
  | 89 => 0x35695670#32
  | 90 => 0xB57BD8F1#32
  | 91 => 0x3588594C#32
  | 92 => 0xB5942572#32
  | 93 => 0x35A19018#32
  | 94 => 0xB5B0E6EF#32
  | 95 => 0x35C28A3B#32
  | 96 => 0xB5D6F23A#32
  | 97 => 0x35EEB658#32
  | 98 => 0xB6054B76#32
  | 99 => 0x3615C529#32
  | 100 => 0xB6296767#32
  | 101 => 0x3641014B#32
  | 102 => 0xB65DA20C#32
  | 103 => 0x368056F2#32
  | 104 => 0xB695FBC4#32
  | 105 => 0x36B0ED61#32
  | 106 => 0xB6D29E9B#32
  | 107 => 0x36FFBDB2#32
  | 108 => 0xB692EE32#32
  | 109 => 0x391EBB1A#32
  | 110 => 0x3B12D0DF#32
  | 111 => 0x3CA0086D#32
  | 112 => 0x3DBAD58B#32
  | 113 => 0x3E6BB748#32
  | 114 => 0x3EA069FE#32
  | 115 => 0x3E6BB748#32
  | 116 => 0x3DBAD58B#32
  | 117 => 0x3CA0086D#32
  | 118 => 0x3B12D0DF#32
  | 119 => 0x391EBB1A#32
  | 120 => 0xB692EE32#32
  | 121 => 0x36FFBDB2#32
  | 122 => 0xB6D29E9B#32
  | 123 => 0x36B0ED61#32
  | 124 => 0xB695FBC4#32
  | 125 => 0x368056F2#32
  | 126 => 0xB65DA20C#32
  | 127 => 0x3641014B#32
  | _ => 0#32

noncomputable abbrev lit0t0_229 (i : Nat) : BitVec 32 := match i % 128 with
  | 0 => 0xB6296767#32
  | 1 => 0x3615C529#32
  | 2 => 0xB6054B76#32
  | 3 => 0x35EEB658#32
  | 4 => 0xB5D6F23A#32
  | 5 => 0x35C28A3B#32
  | 6 => 0xB5B0E6EF#32
  | 7 => 0x35A19018#32
  | 8 => 0xB5942572#32
  | 9 => 0x3588594C#32
  | 10 => 0xB57BD8F1#32
  | 11 => 0x35695670#32
  | 12 => 0xB558D5BB#32
  | 13 => 0x354A0FF9#32
  | 14 => 0xB53CCA00#32
  | 15 => 0x3530D21D#32
  | 16 => 0xB525FE56#32
  | 17 => 0x351C2B08#32
  | 18 => 0xB51339CD#32
  | 19 => 0x350B1097#32
  | 20 => 0xB50398F7#32
  | 21 => 0x34F97F13#32
  | 22 => 0xB4ECE6F7#32
  | 23 => 0x34E14C49#32
  | 24 => 0xB4D69568#32
  | 25 => 0x34CCABDA#32
  | 26 => 0xB4C37BD6#32
  | 27 => 0x34BAF3E5#32
  | 28 => 0xB4B30492#32
  | 29 => 0x34ABA023#32
  | 30 => 0xB4A4BA5F#32
  | 31 => 0x349E485F#32
  | 32 => 0xB4984061#32
  | 33 => 0x349299A5#32
  | 34 => 0xB48D4C4D#32
  | 35 => 0x34885143#32
  | 36 => 0xB483A221#32
  | 37 => 0x347E723F#32
  | 38 => 0xB4762200#32
  | 39 => 0x346E49FF#32
  | 40 => 0xB466E193#32
  | 41 => 0x345FE0DA#32
  | 42 => 0xB45940A1#32
  | 43 => 0x3452FA51#32
  | 44 => 0xB44D07E6#32
  | 45 => 0x344763DA#32
  | 46 => 0xB4420919#32
  | 47 => 0x343CF2FA#32
  | 48 => 0xB4381D32#32
  | 49 => 0x343383CC#32
  | 50 => 0xB42F2322#32
  | 51 => 0x342AF7D2#32
  | 52 => 0xB426FEBD#32
  | 53 => 0x342334FF#32
  | 54 => 0xB41F97EA#32
  | 55 => 0x341C2500#32
  | 56 => 0xB418D9F0#32
  | 57 => 0x3415B495#32
  | 58 => 0xB412B2ED#32
  | 59 => 0x340FD31A#32
  | 60 => 0xB40D1360#32
  | 61 => 0x340A721F#32
  | 62 => 0xB407EDD1#32
  | 63 => 0x3405850C#32
  | 64 => 0xB403367C#32
  | 65 => 0x340100E3#32
  | 66 => 0xB3FDC62E#32
  | 67 => 0x33F9B800#32
  | 68 => 0xB3F5D532#32
  | 69 => 0x33F21BD6#32
  | 70 => 0xB3EE8A1F#32
  | 71 => 0x33EB1E5A#32
  | 72 => 0xB3E7D6EF#32
  | 73 => 0x33E4B25D#32
  | 74 => 0xB3E1AF3D#32
  | 75 => 0x33DECC38#32
  | 76 => 0xB3DC0810#32
  | 77 => 0x33D96196#32
  | 78 => 0xB3D6D7AE#32
  | 79 => 0x33D4694B#32
  | 80 => 0xB3D21572#32
  | 81 => 0x33CFDB34#32
  | 82 => 0xB3CDB9B1#32
  | 83 => 0x33CBB015#32
  | 84 => 0xB3C9BD97#32
  | 85 => 0x33C7E17D#32
  | 86 => 0xB3C61B15#32
  | 87 => 0x33C469B8#32
  | 88 => 0xB3C2CCC7#32
  | 89 => 0x33C143B0#32
  | 90 => 0xB3BFCDE6#32
  | 91 => 0x33BE6AE7#32
  | 92 => 0xB3BD1A36#32
  | 93 => 0x33BBDB61#32
  | 94 => 0xB3BAADFB#32
  | 95 => 0x33B9919E#32
  | 96 => 0xB3B885EC#32
  | 97 => 0x33B78A8A#32
  | 98 => 0xB3B69F28#32
  | 99 => 0x33B5C377#32
  | 100 => 0xB3B4F732#32
  | 101 => 0x33B43A15#32
  | 102 => 0xB3B38BE5#32
  | 103 => 0x33B2EC6A#32
  | 104 => 0xB3B25B72#32
  | 105 => 0x33B1D8CF#32
  | 106 => 0xB3B16459#32
  | 107 => 0x33B0FDEA#32
  | 108 => 0xB3B0A563#32
  | 109 => 0x33B05AA9#32
  | 110 => 0xB3B01DA5#32
  | 111 => 0x33AFEE43#32
  | 112 => 0xB3AFCC75#32
  | 113 => 0x33AFB831#32
  | 114 => 0xB3AFB170#32
  | 115 => 0x33AFB831#32
  | 116 => 0xB3AFCC75#32
  | 117 => 0x33AFEE43#32
  | 118 => 0xB3B01DA5#32
  | 119 => 0x33B05AA9#32
  | 120 => 0xB3B0A563#32
  | 121 => 0x33B0FDEA#32
  | 122 => 0xB3B16459#32
  | 123 => 0x33B1D8CF#32
  | 124 => 0xB3B25B72#32
  | 125 => 0x33B2EC6A#32
  | 126 => 0xB3B38BE5#32
  | 127 => 0x33B43A15#32
  | _ => 0#32

noncomputable abbrev lit0t0_230 (i : Nat) : BitVec 32 := match i % 128 with
  | 0 => 0x33B43A15#32
  | 1 => 0xB3B4F732#32
  | 2 => 0x33B5C377#32
  | 3 => 0xB3B69F28#32
  | 4 => 0x33B78A8A#32
  | 5 => 0xB3B885EC#32
  | 6 => 0x33B9919E#32
  | 7 => 0xB3BAADFB#32
  | 8 => 0x33BBDB61#32
  | 9 => 0xB3BD1A36#32
  | 10 => 0x33BE6AE7#32
  | 11 => 0xB3BFCDE6#32
  | 12 => 0x33C143B0#32
  | 13 => 0xB3C2CCC7#32
  | 14 => 0x33C469B8#32
  | 15 => 0xB3C61B15#32
  | 16 => 0x33C7E17D#32
  | 17 => 0xB3C9BD97#32
  | 18 => 0x33CBB015#32
  | 19 => 0xB3CDB9B1#32
  | 20 => 0x33CFDB34#32
  | 21 => 0xB3D21572#32
  | 22 => 0x33D4694B#32
  | 23 => 0xB3D6D7AE#32
  | 24 => 0x33D96196#32
  | 25 => 0xB3DC0810#32
  | 26 => 0x33DECC38#32
  | 27 => 0xB3E1AF3D#32
  | 28 => 0x33E4B25D#32
  | 29 => 0xB3E7D6EF#32
  | 30 => 0x33EB1E5A#32
  | 31 => 0xB3EE8A1F#32
  | 32 => 0x33F21BD6#32
  | 33 => 0xB3F5D532#32
  | 34 => 0x33F9B800#32
  | 35 => 0xB3FDC62E#32
  | 36 => 0x340100E3#32
  | 37 => 0xB403367C#32
  | 38 => 0x3405850C#32
  | 39 => 0xB407EDD1#32
  | 40 => 0x340A721F#32
  | 41 => 0xB40D1360#32
  | 42 => 0x340FD31A#32
  | 43 => 0xB412B2ED#32
  | 44 => 0x3415B495#32
  | 45 => 0xB418D9F0#32
  | 46 => 0x341C2500#32
  | 47 => 0xB41F97EA#32
  | 48 => 0x342334FF#32
  | 49 => 0xB426FEBD#32
  | 50 => 0x342AF7D2#32
  | 51 => 0xB42F2322#32
  | 52 => 0x343383CC#32
  | 53 => 0xB4381D32#32
  | 54 => 0x343CF2FA#32
  | 55 => 0xB4420919#32
  | 56 => 0x344763DA#32
  | 57 => 0xB44D07E6#32
  | 58 => 0x3452FA51#32
  | 59 => 0xB45940A1#32
  | 60 => 0x345FE0DA#32
  | 61 => 0xB466E193#32
  | 62 => 0x346E49FF#32
  | 63 => 0xB4762200#32
  | 64 => 0x347E723F#32
  | 65 => 0xB483A221#32
  | 66 => 0x34885143#32
  | 67 => 0xB48D4C4D#32
  | 68 => 0x349299A5#32
  | 69 => 0xB4984061#32
  | 70 => 0x349E485F#32
  | 71 => 0xB4A4BA5F#32
  | 72 => 0x34ABA023#32
  | 73 => 0xB4B30492#32
  | 74 => 0x34BAF3E5#32
  | 75 => 0xB4C37BD6#32
  | 76 => 0x34CCABDA#32
  | 77 => 0xB4D69568#32
  | 78 => 0x34E14C49#32
  | 79 => 0xB4ECE6F7#32
  | 80 => 0x34F97F13#32
  | 81 => 0xB50398F7#32
  | 82 => 0x350B1097#32
  | 83 => 0xB51339CD#32
  | 84 => 0x351C2B08#32
  | 85 => 0xB525FE56#32
  | 86 => 0x3530D21D#32
  | 87 => 0xB53CCA00#32
  | 88 => 0x354A0FF9#32
  | 89 => 0xB558D5BB#32
  | 90 => 0x35695670#32
  | 91 => 0xB57BD8F1#32
  | 92 => 0x3588594C#32
  | 93 => 0xB5942572#32
  | 94 => 0x35A19018#32
  | 95 => 0xB5B0E6EF#32
  | 96 => 0x35C28A3B#32
  | 97 => 0xB5D6F23A#32
  | 98 => 0x35EEB658#32
  | 99 => 0xB6054B76#32
  | 100 => 0x3615C529#32
  | 101 => 0xB6296767#32
  | 102 => 0x3641014B#32
  | 103 => 0xB65DA20C#32
  | 104 => 0x368056F2#32
  | 105 => 0xB695FBC4#32
  | 106 => 0x36B0ED61#32
  | 107 => 0xB6D29E9B#32
  | 108 => 0x36FFBDB2#32
  | 109 => 0xB692EE32#32
  | 110 => 0x391EBB1A#32
  | 111 => 0x3B12D0DF#32
  | 112 => 0x3CA0086D#32
  | 113 => 0x3DBAD58B#32
  | 114 => 0x3E6BB748#32
  | 115 => 0x3EA069FE#32
  | 116 => 0x3E6BB748#32
  | 117 => 0x3DBAD58B#32
  | 118 => 0x3CA0086D#32
  | 119 => 0x3B12D0DF#32
  | 120 => 0x391EBB1A#32
  | 121 => 0xB692EE32#32
  | 122 => 0x36FFBDB2#32
  | 123 => 0xB6D29E9B#32
  | 124 => 0x36B0ED61#32
  | 125 => 0xB695FBC4#32
  | 126 => 0x368056F2#32
  | 127 => 0xB65DA20C#32
  | _ => 0#32

noncomputable abbrev lit0t0_231 (i : Nat) : BitVec 32 := match i % 128 with
  | 0 => 0x3641014B#32
  | 1 => 0xB6296767#32
  | 2 => 0x3615C529#32
  | 3 => 0xB6054B76#32
  | 4 => 0x35EEB658#32
  | 5 => 0xB5D6F23A#32
  | 6 => 0x35C28A3B#32
  | 7 => 0xB5B0E6EF#32
  | 8 => 0x35A19018#32
  | 9 => 0xB5942572#32
  | 10 => 0x3588594C#32
  | 11 => 0xB57BD8F1#32
  | 12 => 0x35695670#32
  | 13 => 0xB558D5BB#32
  | 14 => 0x354A0FF9#32
  | 15 => 0xB53CCA00#32
  | 16 => 0x3530D21D#32
  | 17 => 0xB525FE56#32
  | 18 => 0x351C2B08#32
  | 19 => 0xB51339CD#32
  | 20 => 0x350B1097#32
  | 21 => 0xB50398F7#32
  | 22 => 0x34F97F13#32
  | 23 => 0xB4ECE6F7#32
  | 24 => 0x34E14C49#32
  | 25 => 0xB4D69568#32
  | 26 => 0x34CCABDA#32
  | 27 => 0xB4C37BD6#32
  | 28 => 0x34BAF3E5#32
  | 29 => 0xB4B30492#32
  | 30 => 0x34ABA023#32
  | 31 => 0xB4A4BA5F#32
  | 32 => 0x349E485F#32
  | 33 => 0xB4984061#32
  | 34 => 0x349299A5#32
  | 35 => 0xB48D4C4D#32
  | 36 => 0x34885143#32
  | 37 => 0xB483A221#32
  | 38 => 0x347E723F#32
  | 39 => 0xB4762200#32
  | 40 => 0x346E49FF#32
  | 41 => 0xB466E193#32
  | 42 => 0x345FE0DA#32
  | 43 => 0xB45940A1#32
  | 44 => 0x3452FA51#32
  | 45 => 0xB44D07E6#32
  | 46 => 0x344763DA#32
  | 47 => 0xB4420919#32
  | 48 => 0x343CF2FA#32
  | 49 => 0xB4381D32#32
  | 50 => 0x343383CC#32
  | 51 => 0xB42F2322#32
  | 52 => 0x342AF7D2#32
  | 53 => 0xB426FEBD#32
  | 54 => 0x342334FF#32
  | 55 => 0xB41F97EA#32
  | 56 => 0x341C2500#32
  | 57 => 0xB418D9F0#32
  | 58 => 0x3415B495#32
  | 59 => 0xB412B2ED#32
  | 60 => 0x340FD31A#32
  | 61 => 0xB40D1360#32
  | 62 => 0x340A721F#32
  | 63 => 0xB407EDD1#32
  | 64 => 0x3405850C#32
  | 65 => 0xB403367C#32
  | 66 => 0x340100E3#32
  | 67 => 0xB3FDC62E#32
  | 68 => 0x33F9B800#32
  | 69 => 0xB3F5D532#32
  | 70 => 0x33F21BD6#32
  | 71 => 0xB3EE8A1F#32
  | 72 => 0x33EB1E5A#32
  | 73 => 0xB3E7D6EF#32
  | 74 => 0x33E4B25D#32
  | 75 => 0xB3E1AF3D#32
  | 76 => 0x33DECC38#32
  | 77 => 0xB3DC0810#32
  | 78 => 0x33D96196#32
  | 79 => 0xB3D6D7AE#32
  | 80 => 0x33D4694B#32
  | 81 => 0xB3D21572#32
  | 82 => 0x33CFDB34#32
  | 83 => 0xB3CDB9B1#32
  | 84 => 0x33CBB015#32
  | 85 => 0xB3C9BD97#32
  | 86 => 0x33C7E17D#32
  | 87 => 0xB3C61B15#32
  | 88 => 0x33C469B8#32
  | 89 => 0xB3C2CCC7#32
  | 90 => 0x33C143B0#32
  | 91 => 0xB3BFCDE6#32
  | 92 => 0x33BE6AE7#32
  | 93 => 0xB3BD1A36#32
  | 94 => 0x33BBDB61#32
  | 95 => 0xB3BAADFB#32
  | 96 => 0x33B9919E#32
  | 97 => 0xB3B885EC#32
  | 98 => 0x33B78A8A#32
  | 99 => 0xB3B69F28#32
  | 100 => 0x33B5C377#32
  | 101 => 0xB3B4F732#32
  | 102 => 0x33B43A15#32
  | 103 => 0xB3B38BE5#32
  | 104 => 0x33B2EC6A#32
  | 105 => 0xB3B25B72#32
  | 106 => 0x33B1D8CF#32
  | 107 => 0xB3B16459#32
  | 108 => 0x33B0FDEA#32
  | 109 => 0xB3B0A563#32
  | 110 => 0x33B05AA9#32
  | 111 => 0xB3B01DA5#32
  | 112 => 0x33AFEE43#32
  | 113 => 0xB3AFCC75#32
  | 114 => 0x33AFB831#32
  | 115 => 0xB3AFB170#32
  | 116 => 0x33AFB831#32
  | 117 => 0xB3AFCC75#32
  | 118 => 0x33AFEE43#32
  | 119 => 0xB3B01DA5#32
  | 120 => 0x33B05AA9#32
  | 121 => 0xB3B0A563#32
  | 122 => 0x33B0FDEA#32
  | 123 => 0xB3B16459#32
  | 124 => 0x33B1D8CF#32
  | 125 => 0xB3B25B72#32
  | 126 => 0x33B2EC6A#32
  | 127 => 0xB3B38BE5#32
  | _ => 0#32

noncomputable abbrev lit0t0_232 (i : Nat) : BitVec 32 := match i % 128 with
  | 0 => 0xB3B38BE5#32
  | 1 => 0x33B43A15#32
  | 2 => 0xB3B4F732#32
  | 3 => 0x33B5C377#32
  | 4 => 0xB3B69F28#32
  | 5 => 0x33B78A8A#32
  | 6 => 0xB3B885EC#32
  | 7 => 0x33B9919E#32
  | 8 => 0xB3BAADFB#32
  | 9 => 0x33BBDB61#32
  | 10 => 0xB3BD1A36#32
  | 11 => 0x33BE6AE7#32
  | 12 => 0xB3BFCDE6#32
  | 13 => 0x33C143B0#32
  | 14 => 0xB3C2CCC7#32
  | 15 => 0x33C469B8#32
  | 16 => 0xB3C61B15#32
  | 17 => 0x33C7E17D#32
  | 18 => 0xB3C9BD97#32
  | 19 => 0x33CBB015#32
  | 20 => 0xB3CDB9B1#32
  | 21 => 0x33CFDB34#32
  | 22 => 0xB3D21572#32
  | 23 => 0x33D4694B#32
  | 24 => 0xB3D6D7AE#32
  | 25 => 0x33D96196#32
  | 26 => 0xB3DC0810#32
  | 27 => 0x33DECC38#32
  | 28 => 0xB3E1AF3D#32
  | 29 => 0x33E4B25D#32
  | 30 => 0xB3E7D6EF#32
  | 31 => 0x33EB1E5A#32
  | 32 => 0xB3EE8A1F#32
  | 33 => 0x33F21BD6#32
  | 34 => 0xB3F5D532#32
  | 35 => 0x33F9B800#32
  | 36 => 0xB3FDC62E#32
  | 37 => 0x340100E3#32
  | 38 => 0xB403367C#32
  | 39 => 0x3405850C#32
  | 40 => 0xB407EDD1#32
  | 41 => 0x340A721F#32
  | 42 => 0xB40D1360#32
  | 43 => 0x340FD31A#32
  | 44 => 0xB412B2ED#32
  | 45 => 0x3415B495#32
  | 46 => 0xB418D9F0#32
  | 47 => 0x341C2500#32
  | 48 => 0xB41F97EA#32
  | 49 => 0x342334FF#32
  | 50 => 0xB426FEBD#32
  | 51 => 0x342AF7D2#32
  | 52 => 0xB42F2322#32
  | 53 => 0x343383CC#32
  | 54 => 0xB4381D32#32
  | 55 => 0x343CF2FA#32
  | 56 => 0xB4420919#32
  | 57 => 0x344763DA#32
  | 58 => 0xB44D07E6#32
  | 59 => 0x3452FA51#32
  | 60 => 0xB45940A1#32
  | 61 => 0x345FE0DA#32
  | 62 => 0xB466E193#32
  | 63 => 0x346E49FF#32
  | 64 => 0xB4762200#32
  | 65 => 0x347E723F#32
  | 66 => 0xB483A221#32
  | 67 => 0x34885143#32
  | 68 => 0xB48D4C4D#32
  | 69 => 0x349299A5#32
  | 70 => 0xB4984061#32
  | 71 => 0x349E485F#32
  | 72 => 0xB4A4BA5F#32
  | 73 => 0x34ABA023#32
  | 74 => 0xB4B30492#32
  | 75 => 0x34BAF3E5#32
  | 76 => 0xB4C37BD6#32
  | 77 => 0x34CCABDA#32
  | 78 => 0xB4D69568#32
  | 79 => 0x34E14C49#32
  | 80 => 0xB4ECE6F7#32
  | 81 => 0x34F97F13#32
  | 82 => 0xB50398F7#32
  | 83 => 0x350B1097#32
  | 84 => 0xB51339CD#32
  | 85 => 0x351C2B08#32
  | 86 => 0xB525FE56#32
  | 87 => 0x3530D21D#32
  | 88 => 0xB53CCA00#32
  | 89 => 0x354A0FF9#32
  | 90 => 0xB558D5BB#32
  | 91 => 0x35695670#32
  | 92 => 0xB57BD8F1#32
  | 93 => 0x3588594C#32
  | 94 => 0xB5942572#32
  | 95 => 0x35A19018#32
  | 96 => 0xB5B0E6EF#32
  | 97 => 0x35C28A3B#32
  | 98 => 0xB5D6F23A#32
  | 99 => 0x35EEB658#32
  | 100 => 0xB6054B76#32
  | 101 => 0x3615C529#32
  | 102 => 0xB6296767#32
  | 103 => 0x3641014B#32
  | 104 => 0xB65DA20C#32
  | 105 => 0x368056F2#32
  | 106 => 0xB695FBC4#32
  | 107 => 0x36B0ED61#32
  | 108 => 0xB6D29E9B#32
  | 109 => 0x36FFBDB2#32
  | 110 => 0xB692EE32#32
  | 111 => 0x391EBB1A#32
  | 112 => 0x3B12D0DF#32
  | 113 => 0x3CA0086D#32
  | 114 => 0x3DBAD58B#32
  | 115 => 0x3E6BB748#32
  | 116 => 0x3EA069FE#32
  | 117 => 0x3E6BB748#32
  | 118 => 0x3DBAD58B#32
  | 119 => 0x3CA0086D#32
  | 120 => 0x3B12D0DF#32
  | 121 => 0x391EBB1A#32
  | 122 => 0xB692EE32#32
  | 123 => 0x36FFBDB2#32
  | 124 => 0xB6D29E9B#32
  | 125 => 0x36B0ED61#32
  | 126 => 0xB695FBC4#32
  | 127 => 0x368056F2#32
  | _ => 0#32

noncomputable abbrev lit0t0_233 (i : Nat) : BitVec 32 := match i % 128 with
  | 0 => 0xB65DA20C#32
  | 1 => 0x3641014B#32
  | 2 => 0xB6296767#32
  | 3 => 0x3615C529#32
  | 4 => 0xB6054B76#32
  | 5 => 0x35EEB658#32
  | 6 => 0xB5D6F23A#32
  | 7 => 0x35C28A3B#32
  | 8 => 0xB5B0E6EF#32
  | 9 => 0x35A19018#32
  | 10 => 0xB5942572#32
  | 11 => 0x3588594C#32
  | 12 => 0xB57BD8F1#32
  | 13 => 0x35695670#32
  | 14 => 0xB558D5BB#32
  | 15 => 0x354A0FF9#32
  | 16 => 0xB53CCA00#32
  | 17 => 0x3530D21D#32
  | 18 => 0xB525FE56#32
  | 19 => 0x351C2B08#32
  | 20 => 0xB51339CD#32
  | 21 => 0x350B1097#32
  | 22 => 0xB50398F7#32
  | 23 => 0x34F97F13#32
  | 24 => 0xB4ECE6F7#32
  | 25 => 0x34E14C49#32
  | 26 => 0xB4D69568#32
  | 27 => 0x34CCABDA#32
  | 28 => 0xB4C37BD6#32
  | 29 => 0x34BAF3E5#32
  | 30 => 0xB4B30492#32
  | 31 => 0x34ABA023#32
  | 32 => 0xB4A4BA5F#32
  | 33 => 0x349E485F#32
  | 34 => 0xB4984061#32
  | 35 => 0x349299A5#32
  | 36 => 0xB48D4C4D#32
  | 37 => 0x34885143#32
  | 38 => 0xB483A221#32
  | 39 => 0x347E723F#32
  | 40 => 0xB4762200#32
  | 41 => 0x346E49FF#32
  | 42 => 0xB466E193#32
  | 43 => 0x345FE0DA#32
  | 44 => 0xB45940A1#32
  | 45 => 0x3452FA51#32
  | 46 => 0xB44D07E6#32
  | 47 => 0x344763DA#32
  | 48 => 0xB4420919#32
  | 49 => 0x343CF2FA#32
  | 50 => 0xB4381D32#32
  | 51 => 0x343383CC#32
  | 52 => 0xB42F2322#32
  | 53 => 0x342AF7D2#32
  | 54 => 0xB426FEBD#32
  | 55 => 0x342334FF#32
  | 56 => 0xB41F97EA#32
  | 57 => 0x341C2500#32
  | 58 => 0xB418D9F0#32
  | 59 => 0x3415B495#32
  | 60 => 0xB412B2ED#32
  | 61 => 0x340FD31A#32
  | 62 => 0xB40D1360#32
  | 63 => 0x340A721F#32
  | 64 => 0xB407EDD1#32
  | 65 => 0x3405850C#32
  | 66 => 0xB403367C#32
  | 67 => 0x340100E3#32
  | 68 => 0xB3FDC62E#32
  | 69 => 0x33F9B800#32
  | 70 => 0xB3F5D532#32
  | 71 => 0x33F21BD6#32
  | 72 => 0xB3EE8A1F#32
  | 73 => 0x33EB1E5A#32
  | 74 => 0xB3E7D6EF#32
  | 75 => 0x33E4B25D#32
  | 76 => 0xB3E1AF3D#32
  | 77 => 0x33DECC38#32
  | 78 => 0xB3DC0810#32
  | 79 => 0x33D96196#32
  | 80 => 0xB3D6D7AE#32
  | 81 => 0x33D4694B#32
  | 82 => 0xB3D21572#32
  | 83 => 0x33CFDB34#32
  | 84 => 0xB3CDB9B1#32
  | 85 => 0x33CBB015#32
  | 86 => 0xB3C9BD97#32
  | 87 => 0x33C7E17D#32
  | 88 => 0xB3C61B15#32
  | 89 => 0x33C469B8#32
  | 90 => 0xB3C2CCC7#32
  | 91 => 0x33C143B0#32
  | 92 => 0xB3BFCDE6#32
  | 93 => 0x33BE6AE7#32
  | 94 => 0xB3BD1A36#32
  | 95 => 0x33BBDB61#32
  | 96 => 0xB3BAADFB#32
  | 97 => 0x33B9919E#32
  | 98 => 0xB3B885EC#32
  | 99 => 0x33B78A8A#32
  | 100 => 0xB3B69F28#32
  | 101 => 0x33B5C377#32
  | 102 => 0xB3B4F732#32
  | 103 => 0x33B43A15#32
  | 104 => 0xB3B38BE5#32
  | 105 => 0x33B2EC6A#32
  | 106 => 0xB3B25B72#32
  | 107 => 0x33B1D8CF#32
  | 108 => 0xB3B16459#32
  | 109 => 0x33B0FDEA#32
  | 110 => 0xB3B0A563#32
  | 111 => 0x33B05AA9#32
  | 112 => 0xB3B01DA5#32
  | 113 => 0x33AFEE43#32
  | 114 => 0xB3AFCC75#32
  | 115 => 0x33AFB831#32
  | 116 => 0xB3AFB170#32
  | 117 => 0x33AFB831#32
  | 118 => 0xB3AFCC75#32
  | 119 => 0x33AFEE43#32
  | 120 => 0xB3B01DA5#32
  | 121 => 0x33B05AA9#32
  | 122 => 0xB3B0A563#32
  | 123 => 0x33B0FDEA#32
  | 124 => 0xB3B16459#32
  | 125 => 0x33B1D8CF#32
  | 126 => 0xB3B25B72#32
  | 127 => 0x33B2EC6A#32
  | _ => 0#32

noncomputable abbrev lit0t0_234 (i : Nat) : BitVec 32 := match i % 128 with
  | 0 => 0x33B2EC6A#32
  | 1 => 0xB3B38BE5#32
  | 2 => 0x33B43A15#32
  | 3 => 0xB3B4F732#32
  | 4 => 0x33B5C377#32
  | 5 => 0xB3B69F28#32
  | 6 => 0x33B78A8A#32
  | 7 => 0xB3B885EC#32
  | 8 => 0x33B9919E#32
  | 9 => 0xB3BAADFB#32
  | 10 => 0x33BBDB61#32
  | 11 => 0xB3BD1A36#32
  | 12 => 0x33BE6AE7#32
  | 13 => 0xB3BFCDE6#32
  | 14 => 0x33C143B0#32
  | 15 => 0xB3C2CCC7#32
  | 16 => 0x33C469B8#32
  | 17 => 0xB3C61B15#32
  | 18 => 0x33C7E17D#32
  | 19 => 0xB3C9BD97#32
  | 20 => 0x33CBB015#32
  | 21 => 0xB3CDB9B1#32
  | 22 => 0x33CFDB34#32
  | 23 => 0xB3D21572#32
  | 24 => 0x33D4694B#32
  | 25 => 0xB3D6D7AE#32
  | 26 => 0x33D96196#32
  | 27 => 0xB3DC0810#32
  | 28 => 0x33DECC38#32
  | 29 => 0xB3E1AF3D#32
  | 30 => 0x33E4B25D#32
  | 31 => 0xB3E7D6EF#32
  | 32 => 0x33EB1E5A#32
  | 33 => 0xB3EE8A1F#32
  | 34 => 0x33F21BD6#32
  | 35 => 0xB3F5D532#32
  | 36 => 0x33F9B800#32
  | 37 => 0xB3FDC62E#32
  | 38 => 0x340100E3#32
  | 39 => 0xB403367C#32
  | 40 => 0x3405850C#32
  | 41 => 0xB407EDD1#32
  | 42 => 0x340A721F#32
  | 43 => 0xB40D1360#32
  | 44 => 0x340FD31A#32
  | 45 => 0xB412B2ED#32
  | 46 => 0x3415B495#32
  | 47 => 0xB418D9F0#32
  | 48 => 0x341C2500#32
  | 49 => 0xB41F97EA#32
  | 50 => 0x342334FF#32
  | 51 => 0xB426FEBD#32
  | 52 => 0x342AF7D2#32
  | 53 => 0xB42F2322#32
  | 54 => 0x343383CC#32
  | 55 => 0xB4381D32#32
  | 56 => 0x343CF2FA#32
  | 57 => 0xB4420919#32
  | 58 => 0x344763DA#32
  | 59 => 0xB44D07E6#32
  | 60 => 0x3452FA51#32
  | 61 => 0xB45940A1#32
  | 62 => 0x345FE0DA#32
  | 63 => 0xB466E193#32
  | 64 => 0x346E49FF#32
  | 65 => 0xB4762200#32
  | 66 => 0x347E723F#32
  | 67 => 0xB483A221#32
  | 68 => 0x34885142#32
  | 69 => 0xB48D4C4D#32
  | 70 => 0x349299A5#32
  | 71 => 0xB4984061#32
  | 72 => 0x349E485F#32
  | 73 => 0xB4A4BA5F#32
  | 74 => 0x34ABA023#32
  | 75 => 0xB4B30492#32
  | 76 => 0x34BAF3E5#32
  | 77 => 0xB4C37BD6#32
  | 78 => 0x34CCABDA#32
  | 79 => 0xB4D69568#32
  | 80 => 0x34E14C49#32
  | 81 => 0xB4ECE6F7#32
  | 82 => 0x34F97F13#32
  | 83 => 0xB50398F7#32
  | 84 => 0x350B1097#32
  | 85 => 0xB51339CD#32
  | 86 => 0x351C2B08#32
  | 87 => 0xB525FE56#32
  | 88 => 0x3530D21D#32
  | 89 => 0xB53CCA00#32
  | 90 => 0x354A0FF9#32
  | 91 => 0xB558D5BB#32
  | 92 => 0x35695670#32
  | 93 => 0xB57BD8F1#32
  | 94 => 0x3588594C#32
  | 95 => 0xB5942572#32
  | 96 => 0x35A19018#32
  | 97 => 0xB5B0E6EF#32
  | 98 => 0x35C28A3B#32
  | 99 => 0xB5D6F23A#32
  | 100 => 0x35EEB658#32
  | 101 => 0xB6054B76#32
  | 102 => 0x3615C529#32
  | 103 => 0xB6296767#32
  | 104 => 0x3641014B#32
  | 105 => 0xB65DA20C#32
  | 106 => 0x368056F2#32
  | 107 => 0xB695FBC4#32
  | 108 => 0x36B0ED61#32
  | 109 => 0xB6D29E9B#32
  | 110 => 0x36FFBDB2#32
  | 111 => 0xB692EE32#32
  | 112 => 0x391EBB1A#32
  | 113 => 0x3B12D0DF#32
  | 114 => 0x3CA0086D#32
  | 115 => 0x3DBAD58B#32
  | 116 => 0x3E6BB748#32
  | 117 => 0x3EA069FE#32
  | 118 => 0x3E6BB748#32
  | 119 => 0x3DBAD58B#32
  | 120 => 0x3CA0086D#32
  | 121 => 0x3B12D0DF#32
  | 122 => 0x391EBB1A#32
  | 123 => 0xB692EE32#32
  | 124 => 0x36FFBDB2#32
  | 125 => 0xB6D29E9B#32
  | 126 => 0x36B0ED61#32
  | 127 => 0xB695FBC4#32
  | _ => 0#32

noncomputable abbrev lit0t0_235 (i : Nat) : BitVec 32 := match i % 128 with
  | 0 => 0x368056F2#32
  | 1 => 0xB65DA20C#32
  | 2 => 0x3641014B#32
  | 3 => 0xB6296767#32
  | 4 => 0x3615C529#32
  | 5 => 0xB6054B76#32
  | 6 => 0x35EEB658#32
  | 7 => 0xB5D6F23A#32
  | 8 => 0x35C28A3B#32
  | 9 => 0xB5B0E6EF#32
  | 10 => 0x35A19018#32
  | 11 => 0xB5942572#32
  | 12 => 0x3588594C#32
  | 13 => 0xB57BD8F1#32
  | 14 => 0x35695670#32
  | 15 => 0xB558D5BB#32
  | 16 => 0x354A0FF9#32
  | 17 => 0xB53CCA00#32
  | 18 => 0x3530D21D#32
  | 19 => 0xB525FE56#32
  | 20 => 0x351C2B08#32
  | 21 => 0xB51339CD#32
  | 22 => 0x350B1097#32
  | 23 => 0xB50398F7#32
  | 24 => 0x34F97F13#32
  | 25 => 0xB4ECE6F7#32
  | 26 => 0x34E14C49#32
  | 27 => 0xB4D69568#32
  | 28 => 0x34CCABDA#32
  | 29 => 0xB4C37BD6#32
  | 30 => 0x34BAF3E5#32
  | 31 => 0xB4B30492#32
  | 32 => 0x34ABA023#32
  | 33 => 0xB4A4BA5F#32
  | 34 => 0x349E485F#32
  | 35 => 0xB4984061#32
  | 36 => 0x349299A5#32
  | 37 => 0xB48D4C4D#32
  | 38 => 0x34885143#32
  | 39 => 0xB483A221#32
  | 40 => 0x347E723F#32
  | 41 => 0xB4762200#32
  | 42 => 0x346E49FF#32
  | 43 => 0xB466E193#32
  | 44 => 0x345FE0DA#32
  | 45 => 0xB45940A1#32
  | 46 => 0x3452FA51#32
  | 47 => 0xB44D07E6#32
  | 48 => 0x344763DA#32
  | 49 => 0xB4420919#32
  | 50 => 0x343CF2FA#32
  | 51 => 0xB4381D32#32
  | 52 => 0x343383CC#32
  | 53 => 0xB42F2322#32
  | 54 => 0x342AF7D2#32
  | 55 => 0xB426FEBD#32
  | 56 => 0x342334FF#32
  | 57 => 0xB41F97EA#32
  | 58 => 0x341C2500#32
  | 59 => 0xB418D9F0#32
  | 60 => 0x3415B495#32
  | 61 => 0xB412B2ED#32
  | 62 => 0x340FD31A#32
  | 63 => 0xB40D1360#32
  | 64 => 0x340A721F#32
  | 65 => 0xB407EDD1#32
  | 66 => 0x3405850C#32
  | 67 => 0xB403367C#32
  | 68 => 0x340100E3#32
  | 69 => 0xB3FDC62E#32
  | 70 => 0x33F9B800#32
  | 71 => 0xB3F5D532#32
  | 72 => 0x33F21BD6#32
  | 73 => 0xB3EE8A1F#32
  | 74 => 0x33EB1E5A#32
  | 75 => 0xB3E7D6EF#32
  | 76 => 0x33E4B25D#32
  | 77 => 0xB3E1AF3D#32
  | 78 => 0x33DECC38#32
  | 79 => 0xB3DC0810#32
  | 80 => 0x33D96196#32
  | 81 => 0xB3D6D7AE#32
  | 82 => 0x33D4694B#32
  | 83 => 0xB3D21572#32
  | 84 => 0x33CFDB34#32
  | 85 => 0xB3CDB9B1#32
  | 86 => 0x33CBB015#32
  | 87 => 0xB3C9BD97#32
  | 88 => 0x33C7E17D#32
  | 89 => 0xB3C61B15#32
  | 90 => 0x33C469B8#32
  | 91 => 0xB3C2CCC7#32
  | 92 => 0x33C143B0#32
  | 93 => 0xB3BFCDE6#32
  | 94 => 0x33BE6AE7#32
  | 95 => 0xB3BD1A36#32
  | 96 => 0x33BBDB61#32
  | 97 => 0xB3BAADFB#32
  | 98 => 0x33B9919E#32
  | 99 => 0xB3B885EC#32
  | 100 => 0x33B78A8A#32
  | 101 => 0xB3B69F28#32
  | 102 => 0x33B5C377#32
  | 103 => 0xB3B4F732#32
  | 104 => 0x33B43A15#32
  | 105 => 0xB3B38BE5#32
  | 106 => 0x33B2EC6A#32
  | 107 => 0xB3B25B72#32
  | 108 => 0x33B1D8CF#32
  | 109 => 0xB3B16459#32
  | 110 => 0x33B0FDEA#32
  | 111 => 0xB3B0A563#32
  | 112 => 0x33B05AA9#32
  | 113 => 0xB3B01DA5#32
  | 114 => 0x33AFEE43#32
  | 115 => 0xB3AFCC75#32
  | 116 => 0x33AFB831#32
  | 117 => 0xB3AFB170#32
  | 118 => 0x33AFB831#32
  | 119 => 0xB3AFCC75#32
  | 120 => 0x33AFEE43#32
  | 121 => 0xB3B01DA5#32
  | 122 => 0x33B05AA9#32
  | 123 => 0xB3B0A563#32
  | 124 => 0x33B0FDEA#32
  | 125 => 0xB3B16459#32
  | 126 => 0x33B1D8CF#32
  | 127 => 0xB3B25B72#32
  | _ => 0#32

noncomputable abbrev lit0t0_236 (i : Nat) : BitVec 32 := match i % 128 with
  | 0 => 0xB3B25B72#32
  | 1 => 0x33B2EC6A#32
  | 2 => 0xB3B38BE5#32
  | 3 => 0x33B43A15#32
  | 4 => 0xB3B4F732#32
  | 5 => 0x33B5C377#32
  | 6 => 0xB3B69F28#32
  | 7 => 0x33B78A8A#32
  | 8 => 0xB3B885EC#32
  | 9 => 0x33B9919E#32
  | 10 => 0xB3BAADFB#32
  | 11 => 0x33BBDB61#32
  | 12 => 0xB3BD1A36#32
  | 13 => 0x33BE6AE7#32
  | 14 => 0xB3BFCDE6#32
  | 15 => 0x33C143B0#32
  | 16 => 0xB3C2CCC7#32
  | 17 => 0x33C469B8#32
  | 18 => 0xB3C61B15#32
  | 19 => 0x33C7E17D#32
  | 20 => 0xB3C9BD97#32
  | 21 => 0x33CBB015#32
  | 22 => 0xB3CDB9B1#32
  | 23 => 0x33CFDB34#32
  | 24 => 0xB3D21572#32
  | 25 => 0x33D4694B#32
  | 26 => 0xB3D6D7AE#32
  | 27 => 0x33D96196#32
  | 28 => 0xB3DC0810#32
  | 29 => 0x33DECC38#32
  | 30 => 0xB3E1AF3D#32
  | 31 => 0x33E4B25D#32
  | 32 => 0xB3E7D6EF#32
  | 33 => 0x33EB1E5A#32
  | 34 => 0xB3EE8A1F#32
  | 35 => 0x33F21BD6#32
  | 36 => 0xB3F5D532#32
  | 37 => 0x33F9B800#32
  | 38 => 0xB3FDC62E#32
  | 39 => 0x340100E3#32
  | 40 => 0xB403367C#32
  | 41 => 0x3405850C#32
  | 42 => 0xB407EDD1#32
  | 43 => 0x340A721F#32
  | 44 => 0xB40D1360#32
  | 45 => 0x340FD31A#32
  | 46 => 0xB412B2ED#32
  | 47 => 0x3415B495#32
  | 48 => 0xB418D9F0#32
  | 49 => 0x341C2500#32
  | 50 => 0xB41F97EA#32
  | 51 => 0x342334FF#32
  | 52 => 0xB426FEBD#32
  | 53 => 0x342AF7D2#32
  | 54 => 0xB42F2322#32
  | 55 => 0x343383CC#32
  | 56 => 0xB4381D32#32
  | 57 => 0x343CF2FA#32
  | 58 => 0xB4420919#32
  | 59 => 0x344763DA#32
  | 60 => 0xB44D07E6#32
  | 61 => 0x3452FA51#32
  | 62 => 0xB45940A1#32
  | 63 => 0x345FE0DA#32
  | 64 => 0xB466E193#32
  | 65 => 0x346E49FF#32
  | 66 => 0xB4762200#32
  | 67 => 0x347E723F#32
  | 68 => 0xB483A221#32
  | 69 => 0x34885143#32
  | 70 => 0xB48D4C4D#32
  | 71 => 0x349299A5#32
  | 72 => 0xB4984061#32
  | 73 => 0x349E485F#32
  | 74 => 0xB4A4BA5F#32
  | 75 => 0x34ABA023#32
  | 76 => 0xB4B30492#32
  | 77 => 0x34BAF3E5#32
  | 78 => 0xB4C37BD6#32
  | 79 => 0x34CCABDA#32
  | 80 => 0xB4D69568#32
  | 81 => 0x34E14C49#32
  | 82 => 0xB4ECE6F7#32
  | 83 => 0x34F97F13#32
  | 84 => 0xB50398F7#32
  | 85 => 0x350B1097#32
  | 86 => 0xB51339CD#32
  | 87 => 0x351C2B08#32
  | 88 => 0xB525FE56#32
  | 89 => 0x3530D21D#32
  | 90 => 0xB53CCA00#32
  | 91 => 0x354A0FF9#32
  | 92 => 0xB558D5BB#32
  | 93 => 0x35695670#32
  | 94 => 0xB57BD8F1#32
  | 95 => 0x3588594C#32
  | 96 => 0xB5942572#32
  | 97 => 0x35A19018#32
  | 98 => 0xB5B0E6EF#32
  | 99 => 0x35C28A3B#32
  | 100 => 0xB5D6F23A#32
  | 101 => 0x35EEB658#32
  | 102 => 0xB6054B76#32
  | 103 => 0x3615C529#32
  | 104 => 0xB6296767#32
  | 105 => 0x3641014B#32
  | 106 => 0xB65DA20C#32
  | 107 => 0x368056F2#32
  | 108 => 0xB695FBC4#32
  | 109 => 0x36B0ED61#32
  | 110 => 0xB6D29E9B#32
  | 111 => 0x36FFBDB2#32
  | 112 => 0xB692EE32#32
  | 113 => 0x391EBB1A#32
  | 114 => 0x3B12D0DF#32
  | 115 => 0x3CA0086D#32
  | 116 => 0x3DBAD58B#32
  | 117 => 0x3E6BB748#32
  | 118 => 0x3EA069FE#32
  | 119 => 0x3E6BB748#32
  | 120 => 0x3DBAD58B#32
  | 121 => 0x3CA0086D#32
  | 122 => 0x3B12D0DF#32
  | 123 => 0x391EBB1A#32
  | 124 => 0xB692EE32#32
  | 125 => 0x36FFBDB2#32
  | 126 => 0xB6D29E9B#32
  | 127 => 0x36B0ED61#32
  | _ => 0#32

noncomputable abbrev lit0t0_237 (i : Nat) : BitVec 32 := match i % 128 with
  | 0 => 0xB695FBC4#32
  | 1 => 0x368056F2#32
  | 2 => 0xB65DA20C#32
  | 3 => 0x3641014B#32
  | 4 => 0xB6296767#32
  | 5 => 0x3615C529#32
  | 6 => 0xB6054B76#32
  | 7 => 0x35EEB658#32
  | 8 => 0xB5D6F23A#32
  | 9 => 0x35C28A3B#32
  | 10 => 0xB5B0E6EF#32
  | 11 => 0x35A19018#32
  | 12 => 0xB5942572#32
  | 13 => 0x3588594C#32
  | 14 => 0xB57BD8F1#32
  | 15 => 0x35695670#32
  | 16 => 0xB558D5BB#32
  | 17 => 0x354A0FF9#32
  | 18 => 0xB53CCA00#32
  | 19 => 0x3530D21D#32
  | 20 => 0xB525FE56#32
  | 21 => 0x351C2B08#32
  | 22 => 0xB51339CD#32
  | 23 => 0x350B1097#32
  | 24 => 0xB50398F7#32
  | 25 => 0x34F97F13#32
  | 26 => 0xB4ECE6F7#32
  | 27 => 0x34E14C49#32
  | 28 => 0xB4D69568#32
  | 29 => 0x34CCABDA#32
  | 30 => 0xB4C37BD6#32
  | 31 => 0x34BAF3E5#32
  | 32 => 0xB4B30492#32
  | 33 => 0x34ABA023#32
  | 34 => 0xB4A4BA5F#32
  | 35 => 0x349E485F#32
  | 36 => 0xB4984061#32
  | 37 => 0x349299A5#32
  | 38 => 0xB48D4C4D#32
  | 39 => 0x34885143#32
  | 40 => 0xB483A221#32
  | 41 => 0x347E723F#32
  | 42 => 0xB4762200#32
  | 43 => 0x346E49FF#32
  | 44 => 0xB466E193#32
  | 45 => 0x345FE0DA#32
  | 46 => 0xB45940A1#32
  | 47 => 0x3452FA51#32
  | 48 => 0xB44D07E6#32
  | 49 => 0x344763DA#32
  | 50 => 0xB4420919#32
  | 51 => 0x343CF2FA#32
  | 52 => 0xB4381D32#32
  | 53 => 0x343383CC#32
  | 54 => 0xB42F2322#32
  | 55 => 0x342AF7D2#32
  | 56 => 0xB426FEBD#32
  | 57 => 0x342334FF#32
  | 58 => 0xB41F97EA#32
  | 59 => 0x341C2500#32
  | 60 => 0xB418D9F0#32
  | 61 => 0x3415B495#32
  | 62 => 0xB412B2ED#32
  | 63 => 0x340FD31A#32
  | 64 => 0xB40D1360#32
  | 65 => 0x340A721F#32
  | 66 => 0xB407EDD1#32
  | 67 => 0x3405850C#32
  | 68 => 0xB403367C#32
  | 69 => 0x340100E3#32
  | 70 => 0xB3FDC62E#32
  | 71 => 0x33F9B800#32
  | 72 => 0xB3F5D532#32
  | 73 => 0x33F21BD6#32
  | 74 => 0xB3EE8A1F#32
  | 75 => 0x33EB1E5A#32
  | 76 => 0xB3E7D6EF#32
  | 77 => 0x33E4B25D#32
  | 78 => 0xB3E1AF3D#32
  | 79 => 0x33DECC38#32
  | 80 => 0xB3DC0810#32
  | 81 => 0x33D96196#32
  | 82 => 0xB3D6D7AE#32
  | 83 => 0x33D4694B#32
  | 84 => 0xB3D21572#32
  | 85 => 0x33CFDB34#32
  | 86 => 0xB3CDB9B1#32
  | 87 => 0x33CBB015#32
  | 88 => 0xB3C9BD97#32
  | 89 => 0x33C7E17D#32
  | 90 => 0xB3C61B15#32
  | 91 => 0x33C469B8#32
  | 92 => 0xB3C2CCC7#32
  | 93 => 0x33C143B0#32
  | 94 => 0xB3BFCDE6#32
  | 95 => 0x33BE6AE7#32
  | 96 => 0xB3BD1A36#32
  | 97 => 0x33BBDB61#32
  | 98 => 0xB3BAADFB#32
  | 99 => 0x33B9919E#32
  | 100 => 0xB3B885EC#32
  | 101 => 0x33B78A8A#32
  | 102 => 0xB3B69F28#32
  | 103 => 0x33B5C377#32
  | 104 => 0xB3B4F732#32
  | 105 => 0x33B43A15#32
  | 106 => 0xB3B38BE5#32
  | 107 => 0x33B2EC6A#32
  | 108 => 0xB3B25B72#32
  | 109 => 0x33B1D8CF#32
  | 110 => 0xB3B16459#32
  | 111 => 0x33B0FDEA#32
  | 112 => 0xB3B0A563#32
  | 113 => 0x33B05AA9#32
  | 114 => 0xB3B01DA5#32
  | 115 => 0x33AFEE43#32
  | 116 => 0xB3AFCC75#32
  | 117 => 0x33AFB831#32
  | 118 => 0xB3AFB170#32
  | 119 => 0x33AFB831#32
  | 120 => 0xB3AFCC75#32
  | 121 => 0x33AFEE43#32
  | 122 => 0xB3B01DA5#32
  | 123 => 0x33B05AA9#32
  | 124 => 0xB3B0A563#32
  | 125 => 0x33B0FDEA#32
  | 126 => 0xB3B16459#32
  | 127 => 0x33B1D8CF#32
  | _ => 0#32

noncomputable abbrev lit0t0_238 (i : Nat) : BitVec 32 := match i % 128 with
  | 0 => 0x33B1D8CF#32
  | 1 => 0xB3B25B72#32
  | 2 => 0x33B2EC6A#32
  | 3 => 0xB3B38BE5#32
  | 4 => 0x33B43A15#32
  | 5 => 0xB3B4F732#32
  | 6 => 0x33B5C377#32
  | 7 => 0xB3B69F28#32
  | 8 => 0x33B78A8A#32
  | 9 => 0xB3B885EC#32
  | 10 => 0x33B9919E#32
  | 11 => 0xB3BAADFB#32
  | 12 => 0x33BBDB61#32
  | 13 => 0xB3BD1A36#32
  | 14 => 0x33BE6AE7#32
  | 15 => 0xB3BFCDE6#32
  | 16 => 0x33C143B0#32
  | 17 => 0xB3C2CCC7#32
  | 18 => 0x33C469B8#32
  | 19 => 0xB3C61B15#32
  | 20 => 0x33C7E17D#32
  | 21 => 0xB3C9BD97#32
  | 22 => 0x33CBB015#32
  | 23 => 0xB3CDB9B1#32
  | 24 => 0x33CFDB34#32
  | 25 => 0xB3D21572#32
  | 26 => 0x33D4694B#32
  | 27 => 0xB3D6D7AE#32
  | 28 => 0x33D96196#32
  | 29 => 0xB3DC0810#32
  | 30 => 0x33DECC38#32
  | 31 => 0xB3E1AF3D#32
  | 32 => 0x33E4B25D#32
  | 33 => 0xB3E7D6EF#32
  | 34 => 0x33EB1E5A#32
  | 35 => 0xB3EE8A1F#32
  | 36 => 0x33F21BD6#32
  | 37 => 0xB3F5D532#32
  | 38 => 0x33F9B800#32
  | 39 => 0xB3FDC62E#32
  | 40 => 0x340100E3#32
  | 41 => 0xB403367C#32
  | 42 => 0x3405850C#32
  | 43 => 0xB407EDD1#32
  | 44 => 0x340A721F#32
  | 45 => 0xB40D1360#32
  | 46 => 0x340FD31A#32
  | 47 => 0xB412B2ED#32
  | 48 => 0x3415B495#32
  | 49 => 0xB418D9F0#32
  | 50 => 0x341C2500#32
  | 51 => 0xB41F97EA#32
  | 52 => 0x342334FF#32
  | 53 => 0xB426FEBD#32
  | 54 => 0x342AF7D2#32
  | 55 => 0xB42F2322#32
  | 56 => 0x343383CC#32
  | 57 => 0xB4381D32#32
  | 58 => 0x343CF2FA#32
  | 59 => 0xB4420919#32
  | 60 => 0x344763DA#32
  | 61 => 0xB44D07E6#32
  | 62 => 0x3452FA51#32
  | 63 => 0xB45940A1#32
  | 64 => 0x345FE0DA#32
  | 65 => 0xB466E193#32
  | 66 => 0x346E49FF#32
  | 67 => 0xB4762200#32
  | 68 => 0x347E723F#32
  | 69 => 0xB483A221#32
  | 70 => 0x34885143#32
  | 71 => 0xB48D4C4D#32
  | 72 => 0x349299A5#32
  | 73 => 0xB4984061#32
  | 74 => 0x349E485F#32
  | 75 => 0xB4A4BA5F#32
  | 76 => 0x34ABA023#32
  | 77 => 0xB4B30492#32
  | 78 => 0x34BAF3E5#32
  | 79 => 0xB4C37BD6#32
  | 80 => 0x34CCABDA#32
  | 81 => 0xB4D69568#32
  | 82 => 0x34E14C49#32
  | 83 => 0xB4ECE6F7#32
  | 84 => 0x34F97F13#32
  | 85 => 0xB50398F7#32
  | 86 => 0x350B1097#32
  | 87 => 0xB51339CD#32
  | 88 => 0x351C2B08#32
  | 89 => 0xB525FE56#32
  | 90 => 0x3530D21D#32
  | 91 => 0xB53CCA00#32
  | 92 => 0x354A0FF9#32
  | 93 => 0xB558D5BB#32
  | 94 => 0x35695670#32
  | 95 => 0xB57BD8F1#32
  | 96 => 0x3588594C#32
  | 97 => 0xB5942572#32
  | 98 => 0x35A19018#32
  | 99 => 0xB5B0E6EF#32
  | 100 => 0x35C28A3B#32
  | 101 => 0xB5D6F23A#32
  | 102 => 0x35EEB658#32
  | 103 => 0xB6054B76#32
  | 104 => 0x3615C529#32
  | 105 => 0xB6296767#32
  | 106 => 0x3641014B#32
  | 107 => 0xB65DA20C#32
  | 108 => 0x368056F2#32
  | 109 => 0xB695FBC4#32
  | 110 => 0x36B0ED61#32
  | 111 => 0xB6D29E9B#32
  | 112 => 0x36FFBDB2#32
  | 113 => 0xB692EE32#32
  | 114 => 0x391EBB1A#32
  | 115 => 0x3B12D0DF#32
  | 116 => 0x3CA0086D#32
  | 117 => 0x3DBAD58B#32
  | 118 => 0x3E6BB748#32
  | 119 => 0x3EA069FE#32
  | 120 => 0x3E6BB748#32
  | 121 => 0x3DBAD58B#32
  | 122 => 0x3CA0086D#32
  | 123 => 0x3B12D0DF#32
  | 124 => 0x391EBB1A#32
  | 125 => 0xB692EE32#32
  | 126 => 0x36FFBDB2#32
  | 127 => 0xB6D29E9B#32
  | _ => 0#32

noncomputable abbrev lit0t0_239 (i : Nat) : BitVec 32 := match i % 128 with
  | 0 => 0x36B0ED61#32
  | 1 => 0xB695FBC4#32
  | 2 => 0x368056F2#32
  | 3 => 0xB65DA20C#32
  | 4 => 0x3641014B#32
  | 5 => 0xB6296767#32
  | 6 => 0x3615C529#32
  | 7 => 0xB6054B76#32
  | 8 => 0x35EEB658#32
  | 9 => 0xB5D6F23A#32
  | 10 => 0x35C28A3B#32
  | 11 => 0xB5B0E6EF#32
  | 12 => 0x35A19018#32
  | 13 => 0xB5942572#32
  | 14 => 0x3588594C#32
  | 15 => 0xB57BD8F1#32
  | 16 => 0x35695670#32
  | 17 => 0xB558D5BB#32
  | 18 => 0x354A0FF9#32
  | 19 => 0xB53CCA00#32
  | 20 => 0x3530D21D#32
  | 21 => 0xB525FE56#32
  | 22 => 0x351C2B08#32
  | 23 => 0xB51339CD#32
  | 24 => 0x350B1097#32
  | 25 => 0xB50398F7#32
  | 26 => 0x34F97F13#32
  | 27 => 0xB4ECE6F7#32
  | 28 => 0x34E14C49#32
  | 29 => 0xB4D69568#32
  | 30 => 0x34CCABDA#32
  | 31 => 0xB4C37BD6#32
  | 32 => 0x34BAF3E5#32
  | 33 => 0xB4B30492#32
  | 34 => 0x34ABA023#32
  | 35 => 0xB4A4BA5F#32
  | 36 => 0x349E485F#32
  | 37 => 0xB4984061#32
  | 38 => 0x349299A5#32
  | 39 => 0xB48D4C4D#32
  | 40 => 0x34885143#32
  | 41 => 0xB483A221#32
  | 42 => 0x347E723F#32
  | 43 => 0xB4762200#32
  | 44 => 0x346E49FF#32
  | 45 => 0xB466E193#32
  | 46 => 0x345FE0DA#32
  | 47 => 0xB45940A1#32
  | 48 => 0x3452FA51#32
  | 49 => 0xB44D07E6#32
  | 50 => 0x344763DA#32
  | 51 => 0xB4420919#32
  | 52 => 0x343CF2FA#32
  | 53 => 0xB4381D32#32
  | 54 => 0x343383CC#32
  | 55 => 0xB42F2322#32
  | 56 => 0x342AF7D2#32
  | 57 => 0xB426FEBD#32
  | 58 => 0x342334FF#32
  | 59 => 0xB41F97EA#32
  | 60 => 0x341C2500#32
  | 61 => 0xB418D9F0#32
  | 62 => 0x3415B495#32
  | 63 => 0xB412B2ED#32
  | 64 => 0x340FD31A#32
  | 65 => 0xB40D1360#32
  | 66 => 0x340A721F#32
  | 67 => 0xB407EDD1#32
  | 68 => 0x3405850C#32
  | 69 => 0xB403367C#32
  | 70 => 0x340100E3#32
  | 71 => 0xB3FDC62E#32
  | 72 => 0x33F9B800#32
  | 73 => 0xB3F5D532#32
  | 74 => 0x33F21BD6#32
  | 75 => 0xB3EE8A1F#32
  | 76 => 0x33EB1E5A#32
  | 77 => 0xB3E7D6EF#32
  | 78 => 0x33E4B25D#32
  | 79 => 0xB3E1AF3D#32
  | 80 => 0x33DECC38#32
  | 81 => 0xB3DC0810#32
  | 82 => 0x33D96196#32
  | 83 => 0xB3D6D7AE#32
  | 84 => 0x33D4694B#32
  | 85 => 0xB3D21572#32
  | 86 => 0x33CFDB34#32
  | 87 => 0xB3CDB9B1#32
  | 88 => 0x33CBB015#32
  | 89 => 0xB3C9BD97#32
  | 90 => 0x33C7E17D#32
  | 91 => 0xB3C61B15#32
  | 92 => 0x33C469B8#32
  | 93 => 0xB3C2CCC7#32
  | 94 => 0x33C143B0#32
  | 95 => 0xB3BFCDE6#32
  | 96 => 0x33BE6AE7#32
  | 97 => 0xB3BD1A36#32
  | 98 => 0x33BBDB61#32
  | 99 => 0xB3BAADFB#32
  | 100 => 0x33B9919E#32
  | 101 => 0xB3B885EC#32
  | 102 => 0x33B78A8A#32
  | 103 => 0xB3B69F28#32
  | 104 => 0x33B5C377#32
  | 105 => 0xB3B4F732#32
  | 106 => 0x33B43A15#32
  | 107 => 0xB3B38BE5#32
  | 108 => 0x33B2EC6A#32
  | 109 => 0xB3B25B72#32
  | 110 => 0x33B1D8CF#32
  | 111 => 0xB3B16459#32
  | 112 => 0x33B0FDEA#32
  | 113 => 0xB3B0A563#32
  | 114 => 0x33B05AA9#32
  | 115 => 0xB3B01DA5#32
  | 116 => 0x33AFEE43#32
  | 117 => 0xB3AFCC75#32
  | 118 => 0x33AFB831#32
  | 119 => 0xB3AFB170#32
  | 120 => 0x33AFB831#32
  | 121 => 0xB3AFCC75#32
  | 122 => 0x33AFEE43#32
  | 123 => 0xB3B01DA5#32
  | 124 => 0x33B05AA9#32
  | 125 => 0xB3B0A563#32
  | 126 => 0x33B0FDEA#32
  | 127 => 0xB3B16459#32
  | _ => 0#32

noncomputable abbrev lit0t0_240 (i : Nat) : BitVec 32 := match i % 128 with
  | 0 => 0xB3B16459#32
  | 1 => 0x33B1D8CF#32
  | 2 => 0xB3B25B72#32
  | 3 => 0x33B2EC6A#32
  | 4 => 0xB3B38BE5#32
  | 5 => 0x33B43A15#32
  | 6 => 0xB3B4F732#32
  | 7 => 0x33B5C377#32
  | 8 => 0xB3B69F28#32
  | 9 => 0x33B78A8A#32
  | 10 => 0xB3B885EC#32
  | 11 => 0x33B9919E#32
  | 12 => 0xB3BAADFB#32
  | 13 => 0x33BBDB61#32
  | 14 => 0xB3BD1A36#32
  | 15 => 0x33BE6AE7#32
  | 16 => 0xB3BFCDE6#32
  | 17 => 0x33C143B0#32
  | 18 => 0xB3C2CCC7#32
  | 19 => 0x33C469B8#32
  | 20 => 0xB3C61B15#32
  | 21 => 0x33C7E17D#32
  | 22 => 0xB3C9BD97#32
  | 23 => 0x33CBB015#32
  | 24 => 0xB3CDB9B1#32
  | 25 => 0x33CFDB34#32
  | 26 => 0xB3D21572#32
  | 27 => 0x33D4694B#32
  | 28 => 0xB3D6D7AE#32
  | 29 => 0x33D96196#32
  | 30 => 0xB3DC0810#32
  | 31 => 0x33DECC38#32
  | 32 => 0xB3E1AF3D#32
  | 33 => 0x33E4B25D#32
  | 34 => 0xB3E7D6EF#32
  | 35 => 0x33EB1E5A#32
  | 36 => 0xB3EE8A1F#32
  | 37 => 0x33F21BD6#32
  | 38 => 0xB3F5D532#32
  | 39 => 0x33F9B800#32
  | 40 => 0xB3FDC62E#32
  | 41 => 0x340100E3#32
  | 42 => 0xB403367C#32
  | 43 => 0x3405850C#32
  | 44 => 0xB407EDD1#32
  | 45 => 0x340A721F#32
  | 46 => 0xB40D1360#32
  | 47 => 0x340FD31A#32
  | 48 => 0xB412B2ED#32
  | 49 => 0x3415B495#32
  | 50 => 0xB418D9F0#32
  | 51 => 0x341C2500#32
  | 52 => 0xB41F97EA#32
  | 53 => 0x342334FF#32
  | 54 => 0xB426FEBD#32
  | 55 => 0x342AF7D2#32
  | 56 => 0xB42F2322#32
  | 57 => 0x343383CC#32
  | 58 => 0xB4381D32#32
  | 59 => 0x343CF2FA#32
  | 60 => 0xB4420919#32
  | 61 => 0x344763DA#32
  | 62 => 0xB44D07E6#32
  | 63 => 0x3452FA51#32
  | 64 => 0xB45940A1#32
  | 65 => 0x345FE0DA#32
  | 66 => 0xB466E193#32
  | 67 => 0x346E49FF#32
  | 68 => 0xB4762200#32
  | 69 => 0x347E723F#32
  | 70 => 0xB483A221#32
  | 71 => 0x34885143#32
  | 72 => 0xB48D4C4D#32
  | 73 => 0x349299A5#32
  | 74 => 0xB4984061#32
  | 75 => 0x349E485F#32
  | 76 => 0xB4A4BA5F#32
  | 77 => 0x34ABA023#32
  | 78 => 0xB4B30492#32
  | 79 => 0x34BAF3E5#32
  | 80 => 0xB4C37BD6#32
  | 81 => 0x34CCABDA#32
  | 82 => 0xB4D69568#32
  | 83 => 0x34E14C49#32
  | 84 => 0xB4ECE6F7#32
  | 85 => 0x34F97F13#32
  | 86 => 0xB50398F7#32
  | 87 => 0x350B1097#32
  | 88 => 0xB51339CD#32
  | 89 => 0x351C2B08#32
  | 90 => 0xB525FE56#32
  | 91 => 0x3530D21D#32
  | 92 => 0xB53CCA00#32
  | 93 => 0x354A0FF9#32
  | 94 => 0xB558D5BB#32
  | 95 => 0x35695670#32
  | 96 => 0xB57BD8F1#32
  | 97 => 0x3588594C#32
  | 98 => 0xB5942572#32
  | 99 => 0x35A19018#32
  | 100 => 0xB5B0E6EF#32
  | 101 => 0x35C28A3B#32
  | 102 => 0xB5D6F23A#32
  | 103 => 0x35EEB658#32
  | 104 => 0xB6054B76#32
  | 105 => 0x3615C529#32
  | 106 => 0xB6296767#32
  | 107 => 0x3641014B#32
  | 108 => 0xB65DA20C#32
  | 109 => 0x368056F2#32
  | 110 => 0xB695FBC4#32
  | 111 => 0x36B0ED61#32
  | 112 => 0xB6D29E9B#32
  | 113 => 0x36FFBDB2#32
  | 114 => 0xB692EE32#32
  | 115 => 0x391EBB1A#32
  | 116 => 0x3B12D0DF#32
  | 117 => 0x3CA0086D#32
  | 118 => 0x3DBAD58B#32
  | 119 => 0x3E6BB748#32
  | 120 => 0x3EA069FE#32
  | 121 => 0x3E6BB748#32
  | 122 => 0x3DBAD58B#32
  | 123 => 0x3CA0086D#32
  | 124 => 0x3B12D0DF#32
  | 125 => 0x391EBB1A#32
  | 126 => 0xB692EE32#32
  | 127 => 0x36FFBDB2#32
  | _ => 0#32

noncomputable abbrev lit0t0_241 (i : Nat) : BitVec 32 := match i % 128 with
  | 0 => 0xB6D29E9B#32
  | 1 => 0x36B0ED61#32
  | 2 => 0xB695FBC4#32
  | 3 => 0x368056F2#32
  | 4 => 0xB65DA20C#32
  | 5 => 0x3641014B#32
  | 6 => 0xB6296767#32
  | 7 => 0x3615C529#32
  | 8 => 0xB6054B76#32
  | 9 => 0x35EEB658#32
  | 10 => 0xB5D6F23A#32
  | 11 => 0x35C28A3B#32
  | 12 => 0xB5B0E6EF#32
  | 13 => 0x35A19018#32
  | 14 => 0xB5942572#32
  | 15 => 0x3588594C#32
  | 16 => 0xB57BD8F1#32
  | 17 => 0x35695670#32
  | 18 => 0xB558D5BB#32
  | 19 => 0x354A0FF9#32
  | 20 => 0xB53CCA00#32
  | 21 => 0x3530D21D#32
  | 22 => 0xB525FE56#32
  | 23 => 0x351C2B08#32
  | 24 => 0xB51339CD#32
  | 25 => 0x350B1097#32
  | 26 => 0xB50398F7#32
  | 27 => 0x34F97F13#32
  | 28 => 0xB4ECE6F7#32
  | 29 => 0x34E14C49#32
  | 30 => 0xB4D69568#32
  | 31 => 0x34CCABDA#32
  | 32 => 0xB4C37BD6#32
  | 33 => 0x34BAF3E5#32
  | 34 => 0xB4B30492#32
  | 35 => 0x34ABA023#32
  | 36 => 0xB4A4BA5F#32
  | 37 => 0x349E485F#32
  | 38 => 0xB4984061#32
  | 39 => 0x349299A5#32
  | 40 => 0xB48D4C4D#32
  | 41 => 0x34885143#32
  | 42 => 0xB483A221#32
  | 43 => 0x347E723F#32
  | 44 => 0xB4762200#32
  | 45 => 0x346E49FF#32
  | 46 => 0xB466E193#32
  | 47 => 0x345FE0DA#32
  | 48 => 0xB45940A1#32
  | 49 => 0x3452FA51#32
  | 50 => 0xB44D07E6#32
  | 51 => 0x344763DA#32
  | 52 => 0xB4420919#32
  | 53 => 0x343CF2FA#32
  | 54 => 0xB4381D32#32
  | 55 => 0x343383CC#32
  | 56 => 0xB42F2322#32
  | 57 => 0x342AF7D2#32
  | 58 => 0xB426FEBD#32
  | 59 => 0x342334FF#32
  | 60 => 0xB41F97EA#32
  | 61 => 0x341C2500#32
  | 62 => 0xB418D9F0#32
  | 63 => 0x3415B495#32
  | 64 => 0xB412B2ED#32
  | 65 => 0x340FD31A#32
  | 66 => 0xB40D1360#32
  | 67 => 0x340A721F#32
  | 68 => 0xB407EDD1#32
  | 69 => 0x3405850C#32
  | 70 => 0xB403367C#32
  | 71 => 0x340100E3#32
  | 72 => 0xB3FDC62E#32
  | 73 => 0x33F9B800#32
  | 74 => 0xB3F5D532#32
  | 75 => 0x33F21BD6#32
  | 76 => 0xB3EE8A1F#32
  | 77 => 0x33EB1E5A#32
  | 78 => 0xB3E7D6EF#32
  | 79 => 0x33E4B25D#32
  | 80 => 0xB3E1AF3D#32
  | 81 => 0x33DECC38#32
  | 82 => 0xB3DC0810#32
  | 83 => 0x33D96196#32
  | 84 => 0xB3D6D7AE#32
  | 85 => 0x33D4694B#32
  | 86 => 0xB3D21572#32
  | 87 => 0x33CFDB34#32
  | 88 => 0xB3CDB9B1#32
  | 89 => 0x33CBB015#32
  | 90 => 0xB3C9BD97#32
  | 91 => 0x33C7E17D#32
  | 92 => 0xB3C61B15#32
  | 93 => 0x33C469B8#32
  | 94 => 0xB3C2CCC7#32
  | 95 => 0x33C143B0#32
  | 96 => 0xB3BFCDE6#32
  | 97 => 0x33BE6AE7#32
  | 98 => 0xB3BD1A36#32
  | 99 => 0x33BBDB61#32
  | 100 => 0xB3BAADFB#32
  | 101 => 0x33B9919E#32
  | 102 => 0xB3B885EC#32
  | 103 => 0x33B78A8A#32
  | 104 => 0xB3B69F28#32
  | 105 => 0x33B5C377#32
  | 106 => 0xB3B4F732#32
  | 107 => 0x33B43A15#32
  | 108 => 0xB3B38BE5#32
  | 109 => 0x33B2EC6A#32
  | 110 => 0xB3B25B72#32
  | 111 => 0x33B1D8CF#32
  | 112 => 0xB3B16459#32
  | 113 => 0x33B0FDEA#32
  | 114 => 0xB3B0A563#32
  | 115 => 0x33B05AA9#32
  | 116 => 0xB3B01DA5#32
  | 117 => 0x33AFEE43#32
  | 118 => 0xB3AFCC75#32
  | 119 => 0x33AFB831#32
  | 120 => 0xB3AFB170#32
  | 121 => 0x33AFB831#32
  | 122 => 0xB3AFCC75#32
  | 123 => 0x33AFEE43#32
  | 124 => 0xB3B01DA5#32
  | 125 => 0x33B05AA9#32
  | 126 => 0xB3B0A563#32
  | 127 => 0x33B0FDEA#32
  | _ => 0#32

noncomputable abbrev lit0t0_242 (i : Nat) : BitVec 32 := match i % 128 with
  | 0 => 0x33B0FDEA#32
  | 1 => 0xB3B16459#32
  | 2 => 0x33B1D8CF#32
  | 3 => 0xB3B25B72#32
  | 4 => 0x33B2EC6A#32
  | 5 => 0xB3B38BE5#32
  | 6 => 0x33B43A15#32
  | 7 => 0xB3B4F732#32
  | 8 => 0x33B5C377#32
  | 9 => 0xB3B69F28#32
  | 10 => 0x33B78A8A#32
  | 11 => 0xB3B885EC#32
  | 12 => 0x33B9919E#32
  | 13 => 0xB3BAADFB#32
  | 14 => 0x33BBDB61#32
  | 15 => 0xB3BD1A36#32
  | 16 => 0x33BE6AE7#32
  | 17 => 0xB3BFCDE6#32
  | 18 => 0x33C143B0#32
  | 19 => 0xB3C2CCC7#32
  | 20 => 0x33C469B8#32
  | 21 => 0xB3C61B15#32
  | 22 => 0x33C7E17D#32
  | 23 => 0xB3C9BD97#32
  | 24 => 0x33CBB015#32
  | 25 => 0xB3CDB9B1#32
  | 26 => 0x33CFDB34#32
  | 27 => 0xB3D21572#32
  | 28 => 0x33D4694B#32
  | 29 => 0xB3D6D7AE#32
  | 30 => 0x33D96196#32
  | 31 => 0xB3DC0810#32
  | 32 => 0x33DECC38#32
  | 33 => 0xB3E1AF3D#32
  | 34 => 0x33E4B25D#32
  | 35 => 0xB3E7D6EF#32
  | 36 => 0x33EB1E5A#32
  | 37 => 0xB3EE8A1F#32
  | 38 => 0x33F21BD6#32
  | 39 => 0xB3F5D532#32
  | 40 => 0x33F9B800#32
  | 41 => 0xB3FDC62E#32
  | 42 => 0x340100E3#32
  | 43 => 0xB403367C#32
  | 44 => 0x3405850C#32
  | 45 => 0xB407EDD1#32
  | 46 => 0x340A721F#32
  | 47 => 0xB40D1360#32
  | 48 => 0x340FD31A#32
  | 49 => 0xB412B2ED#32
  | 50 => 0x3415B495#32
  | 51 => 0xB418D9F0#32
  | 52 => 0x341C2500#32
  | 53 => 0xB41F97EA#32
  | 54 => 0x342334FF#32
  | 55 => 0xB426FEBD#32
  | 56 => 0x342AF7D2#32
  | 57 => 0xB42F2322#32
  | 58 => 0x343383CC#32
  | 59 => 0xB4381D32#32
  | 60 => 0x343CF2FA#32
  | 61 => 0xB4420919#32
  | 62 => 0x344763DA#32
  | 63 => 0xB44D07E6#32
  | 64 => 0x3452FA51#32
  | 65 => 0xB45940A1#32
  | 66 => 0x345FE0DA#32
  | 67 => 0xB466E193#32
  | 68 => 0x346E49FF#32
  | 69 => 0xB4762200#32
  | 70 => 0x347E723F#32
  | 71 => 0xB483A221#32
  | 72 => 0x34885143#32
  | 73 => 0xB48D4C4D#32
  | 74 => 0x349299A5#32
  | 75 => 0xB4984061#32
  | 76 => 0x349E485F#32
  | 77 => 0xB4A4BA5F#32
  | 78 => 0x34ABA023#32
  | 79 => 0xB4B30492#32
  | 80 => 0x34BAF3E5#32
  | 81 => 0xB4C37BD6#32
  | 82 => 0x34CCABDA#32
  | 83 => 0xB4D69568#32
  | 84 => 0x34E14C49#32
  | 85 => 0xB4ECE6F7#32
  | 86 => 0x34F97F13#32
  | 87 => 0xB50398F7#32
  | 88 => 0x350B1097#32
  | 89 => 0xB51339CD#32
  | 90 => 0x351C2B08#32
  | 91 => 0xB525FE56#32
  | 92 => 0x3530D21D#32
  | 93 => 0xB53CCA00#32
  | 94 => 0x354A0FF9#32
  | 95 => 0xB558D5BB#32
  | 96 => 0x35695670#32
  | 97 => 0xB57BD8F1#32
  | 98 => 0x3588594C#32
  | 99 => 0xB5942572#32
  | 100 => 0x35A19018#32
  | 101 => 0xB5B0E6EF#32
  | 102 => 0x35C28A3B#32
  | 103 => 0xB5D6F23A#32
  | 104 => 0x35EEB658#32
  | 105 => 0xB6054B76#32
  | 106 => 0x3615C529#32
  | 107 => 0xB6296767#32
  | 108 => 0x3641014B#32
  | 109 => 0xB65DA20C#32
  | 110 => 0x368056F2#32
  | 111 => 0xB695FBC4#32
  | 112 => 0x36B0ED61#32
  | 113 => 0xB6D29E9B#32
  | 114 => 0x36FFBDB2#32
  | 115 => 0xB692EE32#32
  | 116 => 0x391EBB1A#32
  | 117 => 0x3B12D0DF#32
  | 118 => 0x3CA0086D#32
  | 119 => 0x3DBAD58B#32
  | 120 => 0x3E6BB748#32
  | 121 => 0x3EA069FE#32
  | 122 => 0x3E6BB748#32
  | 123 => 0x3DBAD58B#32
  | 124 => 0x3CA0086D#32
  | 125 => 0x3B12D0DF#32
  | 126 => 0x391EBB1A#32
  | 127 => 0xB692EE32#32
  | _ => 0#32

noncomputable abbrev lit0t0_243 (i : Nat) : BitVec 32 := match i % 128 with
  | 0 => 0x36FFBDB2#32
  | 1 => 0xB6D29E9B#32
  | 2 => 0x36B0ED61#32
  | 3 => 0xB695FBC4#32
  | 4 => 0x368056F2#32
  | 5 => 0xB65DA20C#32
  | 6 => 0x3641014B#32
  | 7 => 0xB6296767#32
  | 8 => 0x3615C529#32
  | 9 => 0xB6054B76#32
  | 10 => 0x35EEB658#32
  | 11 => 0xB5D6F23A#32
  | 12 => 0x35C28A3B#32
  | 13 => 0xB5B0E6EF#32
  | 14 => 0x35A19018#32
  | 15 => 0xB5942572#32
  | 16 => 0x3588594C#32
  | 17 => 0xB57BD8F1#32
  | 18 => 0x35695670#32
  | 19 => 0xB558D5BB#32
  | 20 => 0x354A0FF9#32
  | 21 => 0xB53CCA00#32
  | 22 => 0x3530D21D#32
  | 23 => 0xB525FE56#32
  | 24 => 0x351C2B08#32
  | 25 => 0xB51339CD#32
  | 26 => 0x350B1097#32
  | 27 => 0xB50398F7#32
  | 28 => 0x34F97F13#32
  | 29 => 0xB4ECE6F7#32
  | 30 => 0x34E14C49#32
  | 31 => 0xB4D69568#32
  | 32 => 0x34CCABDA#32
  | 33 => 0xB4C37BD6#32
  | 34 => 0x34BAF3E5#32
  | 35 => 0xB4B30492#32
  | 36 => 0x34ABA023#32
  | 37 => 0xB4A4BA5F#32
  | 38 => 0x349E485F#32
  | 39 => 0xB4984061#32
  | 40 => 0x349299A5#32
  | 41 => 0xB48D4C4D#32
  | 42 => 0x34885143#32
  | 43 => 0xB483A221#32
  | 44 => 0x347E723F#32
  | 45 => 0xB4762200#32
  | 46 => 0x346E49FF#32
  | 47 => 0xB466E193#32
  | 48 => 0x345FE0DA#32
  | 49 => 0xB45940A1#32
  | 50 => 0x3452FA51#32
  | 51 => 0xB44D07E6#32
  | 52 => 0x344763DA#32
  | 53 => 0xB4420919#32
  | 54 => 0x343CF2FA#32
  | 55 => 0xB4381D32#32
  | 56 => 0x343383CC#32
  | 57 => 0xB42F2322#32
  | 58 => 0x342AF7D2#32
  | 59 => 0xB426FEBD#32
  | 60 => 0x342334FF#32
  | 61 => 0xB41F97EA#32
  | 62 => 0x341C2500#32
  | 63 => 0xB418D9F0#32
  | 64 => 0x3415B495#32
  | 65 => 0xB412B2ED#32
  | 66 => 0x340FD31A#32
  | 67 => 0xB40D1360#32
  | 68 => 0x340A721F#32
  | 69 => 0xB407EDD1#32
  | 70 => 0x3405850C#32
  | 71 => 0xB403367C#32
  | 72 => 0x340100E3#32
  | 73 => 0xB3FDC62E#32
  | 74 => 0x33F9B800#32
  | 75 => 0xB3F5D532#32
  | 76 => 0x33F21BD6#32
  | 77 => 0xB3EE8A1F#32
  | 78 => 0x33EB1E5A#32
  | 79 => 0xB3E7D6EF#32
  | 80 => 0x33E4B25D#32
  | 81 => 0xB3E1AF3D#32
  | 82 => 0x33DECC38#32
  | 83 => 0xB3DC0810#32
  | 84 => 0x33D96196#32
  | 85 => 0xB3D6D7AE#32
  | 86 => 0x33D4694B#32
  | 87 => 0xB3D21572#32
  | 88 => 0x33CFDB34#32
  | 89 => 0xB3CDB9B1#32
  | 90 => 0x33CBB015#32
  | 91 => 0xB3C9BD97#32
  | 92 => 0x33C7E17D#32
  | 93 => 0xB3C61B15#32
  | 94 => 0x33C469B8#32
  | 95 => 0xB3C2CCC7#32
  | 96 => 0x33C143B0#32
  | 97 => 0xB3BFCDE6#32
  | 98 => 0x33BE6AE7#32
  | 99 => 0xB3BD1A36#32
  | 100 => 0x33BBDB61#32
  | 101 => 0xB3BAADFB#32
  | 102 => 0x33B9919E#32
  | 103 => 0xB3B885EC#32
  | 104 => 0x33B78A8A#32
  | 105 => 0xB3B69F28#32
  | 106 => 0x33B5C377#32
  | 107 => 0xB3B4F732#32
  | 108 => 0x33B43A15#32
  | 109 => 0xB3B38BE5#32
  | 110 => 0x33B2EC6A#32
  | 111 => 0xB3B25B72#32
  | 112 => 0x33B1D8CF#32
  | 113 => 0xB3B16459#32
  | 114 => 0x33B0FDEA#32
  | 115 => 0xB3B0A563#32
  | 116 => 0x33B05AA9#32
  | 117 => 0xB3B01DA5#32
  | 118 => 0x33AFEE43#32
  | 119 => 0xB3AFCC75#32
  | 120 => 0x33AFB831#32
  | 121 => 0xB3AFB170#32
  | 122 => 0x33AFB831#32
  | 123 => 0xB3AFCC75#32
  | 124 => 0x33AFEE43#32
  | 125 => 0xB3B01DA5#32
  | 126 => 0x33B05AA9#32
  | 127 => 0xB3B0A563#32
  | _ => 0#32

noncomputable abbrev lit0t0_244 (i : Nat) : BitVec 32 := match i % 128 with
  | 0 => 0xB3B0A563#32
  | 1 => 0x33B0FDEA#32
  | 2 => 0xB3B16459#32
  | 3 => 0x33B1D8CF#32
  | 4 => 0xB3B25B72#32
  | 5 => 0x33B2EC6A#32
  | 6 => 0xB3B38BE5#32
  | 7 => 0x33B43A15#32
  | 8 => 0xB3B4F732#32
  | 9 => 0x33B5C377#32
  | 10 => 0xB3B69F28#32
  | 11 => 0x33B78A8A#32
  | 12 => 0xB3B885EC#32
  | 13 => 0x33B9919E#32
  | 14 => 0xB3BAADFB#32
  | 15 => 0x33BBDB61#32
  | 16 => 0xB3BD1A36#32
  | 17 => 0x33BE6AE7#32
  | 18 => 0xB3BFCDE6#32
  | 19 => 0x33C143B0#32
  | 20 => 0xB3C2CCC7#32
  | 21 => 0x33C469B8#32
  | 22 => 0xB3C61B15#32
  | 23 => 0x33C7E17D#32
  | 24 => 0xB3C9BD97#32
  | 25 => 0x33CBB015#32
  | 26 => 0xB3CDB9B1#32
  | 27 => 0x33CFDB34#32
  | 28 => 0xB3D21572#32
  | 29 => 0x33D4694B#32
  | 30 => 0xB3D6D7AE#32
  | 31 => 0x33D96196#32
  | 32 => 0xB3DC0810#32
  | 33 => 0x33DECC38#32
  | 34 => 0xB3E1AF3D#32
  | 35 => 0x33E4B25D#32
  | 36 => 0xB3E7D6EF#32
  | 37 => 0x33EB1E5A#32
  | 38 => 0xB3EE8A1F#32
  | 39 => 0x33F21BD6#32
  | 40 => 0xB3F5D532#32
  | 41 => 0x33F9B800#32
  | 42 => 0xB3FDC62E#32
  | 43 => 0x340100E3#32
  | 44 => 0xB403367C#32
  | 45 => 0x3405850C#32
  | 46 => 0xB407EDD1#32
  | 47 => 0x340A721F#32
  | 48 => 0xB40D1360#32
  | 49 => 0x340FD31A#32
  | 50 => 0xB412B2ED#32
  | 51 => 0x3415B495#32
  | 52 => 0xB418D9F0#32
  | 53 => 0x341C2500#32
  | 54 => 0xB41F97EA#32
  | 55 => 0x342334FF#32
  | 56 => 0xB426FEBD#32
  | 57 => 0x342AF7D2#32
  | 58 => 0xB42F2322#32
  | 59 => 0x343383CC#32
  | 60 => 0xB4381D32#32
  | 61 => 0x343CF2FA#32
  | 62 => 0xB4420919#32
  | 63 => 0x344763DA#32
  | 64 => 0xB44D07E6#32
  | 65 => 0x3452FA51#32
  | 66 => 0xB45940A1#32
  | 67 => 0x345FE0DA#32
  | 68 => 0xB466E193#32
  | 69 => 0x346E49FF#32
  | 70 => 0xB4762200#32
  | 71 => 0x347E723F#32
  | 72 => 0xB483A221#32
  | 73 => 0x34885143#32
  | 74 => 0xB48D4C4D#32
  | 75 => 0x349299A5#32
  | 76 => 0xB4984061#32
  | 77 => 0x349E485F#32
  | 78 => 0xB4A4BA5F#32
  | 79 => 0x34ABA023#32
  | 80 => 0xB4B30492#32
  | 81 => 0x34BAF3E5#32
  | 82 => 0xB4C37BD6#32
  | 83 => 0x34CCABDA#32
  | 84 => 0xB4D69568#32
  | 85 => 0x34E14C49#32
  | 86 => 0xB4ECE6F7#32
  | 87 => 0x34F97F13#32
  | 88 => 0xB50398F7#32
  | 89 => 0x350B1097#32
  | 90 => 0xB51339CD#32
  | 91 => 0x351C2B08#32
  | 92 => 0xB525FE56#32
  | 93 => 0x3530D21D#32
  | 94 => 0xB53CCA00#32
  | 95 => 0x354A0FF9#32
  | 96 => 0xB558D5BB#32
  | 97 => 0x35695670#32
  | 98 => 0xB57BD8F1#32
  | 99 => 0x3588594C#32
  | 100 => 0xB5942572#32
  | 101 => 0x35A19018#32
  | 102 => 0xB5B0E6EF#32
  | 103 => 0x35C28A3B#32
  | 104 => 0xB5D6F23A#32
  | 105 => 0x35EEB658#32
  | 106 => 0xB6054B76#32
  | 107 => 0x3615C529#32
  | 108 => 0xB6296767#32
  | 109 => 0x3641014B#32
  | 110 => 0xB65DA20C#32
  | 111 => 0x368056F2#32
  | 112 => 0xB695FBC4#32
  | 113 => 0x36B0ED61#32
  | 114 => 0xB6D29E9B#32
  | 115 => 0x36FFBDB2#32
  | 116 => 0xB692EE32#32
  | 117 => 0x391EBB1A#32
  | 118 => 0x3B12D0DF#32
  | 119 => 0x3CA0086D#32
  | 120 => 0x3DBAD58B#32
  | 121 => 0x3E6BB748#32
  | 122 => 0x3EA069FE#32
  | 123 => 0x3E6BB748#32
  | 124 => 0x3DBAD58B#32
  | 125 => 0x3CA0086D#32
  | 126 => 0x3B12D0DF#32
  | 127 => 0x391EBB1A#32
  | _ => 0#32

noncomputable abbrev lit0t0_245 (i : Nat) : BitVec 32 := match i % 128 with
  | 0 => 0xB692EE32#32
  | 1 => 0x36FFBDB2#32
  | 2 => 0xB6D29E9B#32
  | 3 => 0x36B0ED61#32
  | 4 => 0xB695FBC4#32
  | 5 => 0x368056F2#32
  | 6 => 0xB65DA20C#32
  | 7 => 0x3641014B#32
  | 8 => 0xB6296767#32
  | 9 => 0x3615C529#32
  | 10 => 0xB6054B76#32
  | 11 => 0x35EEB658#32
  | 12 => 0xB5D6F23A#32
  | 13 => 0x35C28A3B#32
  | 14 => 0xB5B0E6EF#32
  | 15 => 0x35A19018#32
  | 16 => 0xB5942572#32
  | 17 => 0x3588594C#32
  | 18 => 0xB57BD8F1#32
  | 19 => 0x35695670#32
  | 20 => 0xB558D5BB#32
  | 21 => 0x354A0FF9#32
  | 22 => 0xB53CCA00#32
  | 23 => 0x3530D21D#32
  | 24 => 0xB525FE56#32
  | 25 => 0x351C2B08#32
  | 26 => 0xB51339CD#32
  | 27 => 0x350B1097#32
  | 28 => 0xB50398F7#32
  | 29 => 0x34F97F13#32
  | 30 => 0xB4ECE6F7#32
  | 31 => 0x34E14C49#32
  | 32 => 0xB4D69568#32
  | 33 => 0x34CCABDA#32
  | 34 => 0xB4C37BD6#32
  | 35 => 0x34BAF3E5#32
  | 36 => 0xB4B30492#32
  | 37 => 0x34ABA023#32
  | 38 => 0xB4A4BA5F#32
  | 39 => 0x349E485F#32
  | 40 => 0xB4984061#32
  | 41 => 0x349299A5#32
  | 42 => 0xB48D4C4D#32
  | 43 => 0x34885143#32
  | 44 => 0xB483A221#32
  | 45 => 0x347E723F#32
  | 46 => 0xB4762200#32
  | 47 => 0x346E49FF#32
  | 48 => 0xB466E193#32
  | 49 => 0x345FE0DA#32
  | 50 => 0xB45940A1#32
  | 51 => 0x3452FA51#32
  | 52 => 0xB44D07E6#32
  | 53 => 0x344763DA#32
  | 54 => 0xB4420919#32
  | 55 => 0x343CF2FA#32
  | 56 => 0xB4381D32#32
  | 57 => 0x343383CC#32
  | 58 => 0xB42F2322#32
  | 59 => 0x342AF7D2#32
  | 60 => 0xB426FEBD#32
  | 61 => 0x342334FF#32
  | 62 => 0xB41F97EA#32
  | 63 => 0x341C2500#32
  | 64 => 0xB418D9F0#32
  | 65 => 0x3415B495#32
  | 66 => 0xB412B2ED#32
  | 67 => 0x340FD31A#32
  | 68 => 0xB40D1360#32
  | 69 => 0x340A721F#32
  | 70 => 0xB407EDD1#32
  | 71 => 0x3405850C#32
  | 72 => 0xB403367C#32
  | 73 => 0x340100E3#32
  | 74 => 0xB3FDC62E#32
  | 75 => 0x33F9B800#32
  | 76 => 0xB3F5D532#32
  | 77 => 0x33F21BD6#32
  | 78 => 0xB3EE8A1F#32
  | 79 => 0x33EB1E5A#32
  | 80 => 0xB3E7D6EF#32
  | 81 => 0x33E4B25D#32
  | 82 => 0xB3E1AF3D#32
  | 83 => 0x33DECC38#32
  | 84 => 0xB3DC0810#32
  | 85 => 0x33D96196#32
  | 86 => 0xB3D6D7AE#32
  | 87 => 0x33D4694B#32
  | 88 => 0xB3D21572#32
  | 89 => 0x33CFDB34#32
  | 90 => 0xB3CDB9B1#32
  | 91 => 0x33CBB015#32
  | 92 => 0xB3C9BD97#32
  | 93 => 0x33C7E17D#32
  | 94 => 0xB3C61B15#32
  | 95 => 0x33C469B8#32
  | 96 => 0xB3C2CCC7#32
  | 97 => 0x33C143B0#32
  | 98 => 0xB3BFCDE6#32
  | 99 => 0x33BE6AE7#32
  | 100 => 0xB3BD1A36#32
  | 101 => 0x33BBDB61#32
  | 102 => 0xB3BAADFB#32
  | 103 => 0x33B9919E#32
  | 104 => 0xB3B885EC#32
  | 105 => 0x33B78A8A#32
  | 106 => 0xB3B69F28#32
  | 107 => 0x33B5C377#32
  | 108 => 0xB3B4F732#32
  | 109 => 0x33B43A15#32
  | 110 => 0xB3B38BE5#32
  | 111 => 0x33B2EC6A#32
  | 112 => 0xB3B25B72#32
  | 113 => 0x33B1D8CF#32
  | 114 => 0xB3B16459#32
  | 115 => 0x33B0FDEA#32
  | 116 => 0xB3B0A563#32
  | 117 => 0x33B05AA9#32
  | 118 => 0xB3B01DA5#32
  | 119 => 0x33AFEE43#32
  | 120 => 0xB3AFCC75#32
  | 121 => 0x33AFB831#32
  | 122 => 0xB3AFB170#32
  | 123 => 0x33AFB831#32
  | 124 => 0xB3AFCC75#32
  | 125 => 0x33AFEE43#32
  | 126 => 0xB3B01DA5#32
  | 127 => 0x33B05AA9#32
  | _ => 0#32

noncomputable abbrev lit0t0_246 (i : Nat) : BitVec 32 := match i % 128 with
  | 0 => 0x33B05AA9#32
  | 1 => 0xB3B0A563#32
  | 2 => 0x33B0FDEA#32
  | 3 => 0xB3B16459#32
  | 4 => 0x33B1D8CF#32
  | 5 => 0xB3B25B72#32
  | 6 => 0x33B2EC6A#32
  | 7 => 0xB3B38BE5#32
  | 8 => 0x33B43A15#32
  | 9 => 0xB3B4F732#32
  | 10 => 0x33B5C377#32
  | 11 => 0xB3B69F28#32
  | 12 => 0x33B78A8A#32
  | 13 => 0xB3B885EC#32
  | 14 => 0x33B9919E#32
  | 15 => 0xB3BAADFB#32
  | 16 => 0x33BBDB61#32
  | 17 => 0xB3BD1A36#32
  | 18 => 0x33BE6AE7#32
  | 19 => 0xB3BFCDE6#32
  | 20 => 0x33C143B0#32
  | 21 => 0xB3C2CCC7#32
  | 22 => 0x33C469B8#32
  | 23 => 0xB3C61B15#32
  | 24 => 0x33C7E17D#32
  | 25 => 0xB3C9BD97#32
  | 26 => 0x33CBB015#32
  | 27 => 0xB3CDB9B1#32
  | 28 => 0x33CFDB34#32
  | 29 => 0xB3D21572#32
  | 30 => 0x33D4694B#32
  | 31 => 0xB3D6D7AE#32
  | 32 => 0x33D96196#32
  | 33 => 0xB3DC0810#32
  | 34 => 0x33DECC38#32
  | 35 => 0xB3E1AF3D#32
  | 36 => 0x33E4B25D#32
  | 37 => 0xB3E7D6EF#32
  | 38 => 0x33EB1E5A#32
  | 39 => 0xB3EE8A1F#32
  | 40 => 0x33F21BD6#32
  | 41 => 0xB3F5D532#32
  | 42 => 0x33F9B800#32
  | 43 => 0xB3FDC62E#32
  | 44 => 0x340100E3#32
  | 45 => 0xB403367C#32
  | 46 => 0x3405850C#32
  | 47 => 0xB407EDD1#32
  | 48 => 0x340A721F#32
  | 49 => 0xB40D1360#32
  | 50 => 0x340FD31A#32
  | 51 => 0xB412B2ED#32
  | 52 => 0x3415B495#32
  | 53 => 0xB418D9F0#32
  | 54 => 0x341C2500#32
  | 55 => 0xB41F97EA#32
  | 56 => 0x342334FF#32
  | 57 => 0xB426FEBD#32
  | 58 => 0x342AF7D2#32
  | 59 => 0xB42F2322#32
  | 60 => 0x343383CC#32
  | 61 => 0xB4381D32#32
  | 62 => 0x343CF2FA#32
  | 63 => 0xB4420919#32
  | 64 => 0x344763DA#32
  | 65 => 0xB44D07E6#32
  | 66 => 0x3452FA51#32
  | 67 => 0xB45940A1#32
  | 68 => 0x345FE0DA#32
  | 69 => 0xB466E193#32
  | 70 => 0x346E49FF#32
  | 71 => 0xB4762200#32
  | 72 => 0x347E723F#32
  | 73 => 0xB483A221#32
  | 74 => 0x34885143#32
  | 75 => 0xB48D4C4D#32
  | 76 => 0x349299A5#32
  | 77 => 0xB4984061#32
  | 78 => 0x349E485F#32
  | 79 => 0xB4A4BA5F#32
  | 80 => 0x34ABA023#32
  | 81 => 0xB4B30492#32
  | 82 => 0x34BAF3E5#32
  | 83 => 0xB4C37BD6#32
  | 84 => 0x34CCABDA#32
  | 85 => 0xB4D69568#32
  | 86 => 0x34E14C49#32
  | 87 => 0xB4ECE6F7#32
  | 88 => 0x34F97F13#32
  | 89 => 0xB50398F7#32
  | 90 => 0x350B1097#32
  | 91 => 0xB51339CD#32
  | 92 => 0x351C2B08#32
  | 93 => 0xB525FE56#32
  | 94 => 0x3530D21D#32
  | 95 => 0xB53CCA00#32
  | 96 => 0x354A0FF9#32
  | 97 => 0xB558D5BB#32
  | 98 => 0x35695670#32
  | 99 => 0xB57BD8F1#32
  | 100 => 0x3588594C#32
  | 101 => 0xB5942572#32
  | 102 => 0x35A19018#32
  | 103 => 0xB5B0E6EF#32
  | 104 => 0x35C28A3B#32
  | 105 => 0xB5D6F23A#32
  | 106 => 0x35EEB658#32
  | 107 => 0xB6054B76#32
  | 108 => 0x3615C529#32
  | 109 => 0xB6296767#32
  | 110 => 0x3641014B#32
  | 111 => 0xB65DA20C#32
  | 112 => 0x368056F2#32
  | 113 => 0xB695FBC4#32
  | 114 => 0x36B0ED61#32
  | 115 => 0xB6D29E9B#32
  | 116 => 0x36FFBDB2#32
  | 117 => 0xB692EE32#32
  | 118 => 0x391EBB1A#32
  | 119 => 0x3B12D0DF#32
  | 120 => 0x3CA0086D#32
  | 121 => 0x3DBAD58B#32
  | 122 => 0x3E6BB748#32
  | 123 => 0x3EA069FE#32
  | 124 => 0x3E6BB748#32
  | 125 => 0x3DBAD58B#32
  | 126 => 0x3CA0086D#32
  | 127 => 0x3B12D0DF#32
  | _ => 0#32

noncomputable abbrev lit0t0_247 (i : Nat) : BitVec 32 := match i % 128 with
  | 0 => 0x391EBB1A#32
  | 1 => 0xB692EE32#32
  | 2 => 0x36FFBDB2#32
  | 3 => 0xB6D29E9B#32
  | 4 => 0x36B0ED61#32
  | 5 => 0xB695FBC4#32
  | 6 => 0x368056F2#32
  | 7 => 0xB65DA20C#32
  | 8 => 0x3641014B#32
  | 9 => 0xB6296767#32
  | 10 => 0x3615C529#32
  | 11 => 0xB6054B76#32
  | 12 => 0x35EEB658#32
  | 13 => 0xB5D6F23A#32
  | 14 => 0x35C28A3B#32
  | 15 => 0xB5B0E6EF#32
  | 16 => 0x35A19018#32
  | 17 => 0xB5942572#32
  | 18 => 0x3588594C#32
  | 19 => 0xB57BD8F1#32
  | 20 => 0x35695670#32
  | 21 => 0xB558D5BB#32
  | 22 => 0x354A0FF9#32
  | 23 => 0xB53CCA00#32
  | 24 => 0x3530D21D#32
  | 25 => 0xB525FE56#32
  | 26 => 0x351C2B08#32
  | 27 => 0xB51339CD#32
  | 28 => 0x350B1097#32
  | 29 => 0xB50398F7#32
  | 30 => 0x34F97F13#32
  | 31 => 0xB4ECE6F7#32
  | 32 => 0x34E14C49#32
  | 33 => 0xB4D69568#32
  | 34 => 0x34CCABDA#32
  | 35 => 0xB4C37BD6#32
  | 36 => 0x34BAF3E5#32
  | 37 => 0xB4B30492#32
  | 38 => 0x34ABA023#32
  | 39 => 0xB4A4BA5F#32
  | 40 => 0x349E485F#32
  | 41 => 0xB4984061#32
  | 42 => 0x349299A5#32
  | 43 => 0xB48D4C4D#32
  | 44 => 0x34885142#32
  | 45 => 0xB483A221#32
  | 46 => 0x347E723F#32
  | 47 => 0xB4762200#32
  | 48 => 0x346E49FF#32
  | 49 => 0xB466E193#32
  | 50 => 0x345FE0DA#32
  | 51 => 0xB45940A1#32
  | 52 => 0x3452FA51#32
  | 53 => 0xB44D07E6#32
  | 54 => 0x344763DA#32
  | 55 => 0xB4420919#32
  | 56 => 0x343CF2FA#32
  | 57 => 0xB4381D32#32
  | 58 => 0x343383CC#32
  | 59 => 0xB42F2322#32
  | 60 => 0x342AF7D2#32
  | 61 => 0xB426FEBD#32
  | 62 => 0x342334FF#32
  | 63 => 0xB41F97EA#32
  | 64 => 0x341C2500#32
  | 65 => 0xB418D9F0#32
  | 66 => 0x3415B495#32
  | 67 => 0xB412B2ED#32
  | 68 => 0x340FD31A#32
  | 69 => 0xB40D1360#32
  | 70 => 0x340A721F#32
  | 71 => 0xB407EDD1#32
  | 72 => 0x3405850C#32
  | 73 => 0xB403367C#32
  | 74 => 0x340100E3#32
  | 75 => 0xB3FDC62E#32
  | 76 => 0x33F9B800#32
  | 77 => 0xB3F5D532#32
  | 78 => 0x33F21BD6#32
  | 79 => 0xB3EE8A1F#32
  | 80 => 0x33EB1E5A#32
  | 81 => 0xB3E7D6EF#32
  | 82 => 0x33E4B25D#32
  | 83 => 0xB3E1AF3D#32
  | 84 => 0x33DECC38#32
  | 85 => 0xB3DC0810#32
  | 86 => 0x33D96196#32
  | 87 => 0xB3D6D7AE#32
  | 88 => 0x33D4694B#32
  | 89 => 0xB3D21572#32
  | 90 => 0x33CFDB34#32
  | 91 => 0xB3CDB9B1#32
  | 92 => 0x33CBB015#32
  | 93 => 0xB3C9BD97#32
  | 94 => 0x33C7E17D#32
  | 95 => 0xB3C61B15#32
  | 96 => 0x33C469B8#32
  | 97 => 0xB3C2CCC7#32
  | 98 => 0x33C143B0#32
  | 99 => 0xB3BFCDE6#32
  | 100 => 0x33BE6AE7#32
  | 101 => 0xB3BD1A36#32
  | 102 => 0x33BBDB61#32
  | 103 => 0xB3BAADFB#32
  | 104 => 0x33B9919E#32
  | 105 => 0xB3B885EC#32
  | 106 => 0x33B78A8A#32
  | 107 => 0xB3B69F28#32
  | 108 => 0x33B5C377#32
  | 109 => 0xB3B4F732#32
  | 110 => 0x33B43A15#32
  | 111 => 0xB3B38BE5#32
  | 112 => 0x33B2EC6A#32
  | 113 => 0xB3B25B72#32
  | 114 => 0x33B1D8CF#32
  | 115 => 0xB3B16459#32
  | 116 => 0x33B0FDEA#32
  | 117 => 0xB3B0A563#32
  | 118 => 0x33B05AA9#32
  | 119 => 0xB3B01DA5#32
  | 120 => 0x33AFEE43#32
  | 121 => 0xB3AFCC75#32
  | 122 => 0x33AFB831#32
  | 123 => 0xB3AFB170#32
  | 124 => 0x33AFB831#32
  | 125 => 0xB3AFCC75#32
  | 126 => 0x33AFEE43#32
  | 127 => 0xB3B01DA5#32
  | _ => 0#32

noncomputable abbrev lit0t0_248 (i : Nat) : BitVec 32 := match i % 128 with
  | 0 => 0xB3B01DA5#32
  | 1 => 0x33B05AA9#32
  | 2 => 0xB3B0A563#32
  | 3 => 0x33B0FDEA#32
  | 4 => 0xB3B16459#32
  | 5 => 0x33B1D8CF#32
  | 6 => 0xB3B25B72#32
  | 7 => 0x33B2EC6A#32
  | 8 => 0xB3B38BE5#32
  | 9 => 0x33B43A15#32
  | 10 => 0xB3B4F732#32
  | 11 => 0x33B5C377#32
  | 12 => 0xB3B69F28#32
  | 13 => 0x33B78A8A#32
  | 14 => 0xB3B885EC#32
  | 15 => 0x33B9919E#32
  | 16 => 0xB3BAADFB#32
  | 17 => 0x33BBDB61#32
  | 18 => 0xB3BD1A36#32
  | 19 => 0x33BE6AE7#32
  | 20 => 0xB3BFCDE6#32
  | 21 => 0x33C143B0#32
  | 22 => 0xB3C2CCC7#32
  | 23 => 0x33C469B8#32
  | 24 => 0xB3C61B15#32
  | 25 => 0x33C7E17D#32
  | 26 => 0xB3C9BD97#32
  | 27 => 0x33CBB015#32
  | 28 => 0xB3CDB9B1#32
  | 29 => 0x33CFDB34#32
  | 30 => 0xB3D21572#32
  | 31 => 0x33D4694B#32
  | 32 => 0xB3D6D7AE#32
  | 33 => 0x33D96196#32
  | 34 => 0xB3DC0810#32
  | 35 => 0x33DECC38#32
  | 36 => 0xB3E1AF3D#32
  | 37 => 0x33E4B25D#32
  | 38 => 0xB3E7D6EF#32
  | 39 => 0x33EB1E5A#32
  | 40 => 0xB3EE8A1F#32
  | 41 => 0x33F21BD6#32
  | 42 => 0xB3F5D532#32
  | 43 => 0x33F9B800#32
  | 44 => 0xB3FDC62E#32
  | 45 => 0x340100E3#32
  | 46 => 0xB403367C#32
  | 47 => 0x3405850C#32
  | 48 => 0xB407EDD1#32
  | 49 => 0x340A721F#32
  | 50 => 0xB40D1360#32
  | 51 => 0x340FD31A#32
  | 52 => 0xB412B2ED#32
  | 53 => 0x3415B495#32
  | 54 => 0xB418D9F0#32
  | 55 => 0x341C2500#32
  | 56 => 0xB41F97EA#32
  | 57 => 0x342334FF#32
  | 58 => 0xB426FEBD#32
  | 59 => 0x342AF7D2#32
  | 60 => 0xB42F2322#32
  | 61 => 0x343383CC#32
  | 62 => 0xB4381D32#32
  | 63 => 0x343CF2FA#32
  | 64 => 0xB4420919#32
  | 65 => 0x344763DA#32
  | 66 => 0xB44D07E6#32
  | 67 => 0x3452FA51#32
  | 68 => 0xB45940A1#32
  | 69 => 0x345FE0DA#32
  | 70 => 0xB466E193#32
  | 71 => 0x346E49FF#32
  | 72 => 0xB4762200#32
  | 73 => 0x347E723F#32
  | 74 => 0xB483A221#32
  | 75 => 0x34885142#32
  | 76 => 0xB48D4C4D#32
  | 77 => 0x349299A5#32
  | 78 => 0xB4984061#32
  | 79 => 0x349E485F#32
  | 80 => 0xB4A4BA5F#32
  | 81 => 0x34ABA023#32
  | 82 => 0xB4B30492#32
  | 83 => 0x34BAF3E5#32
  | 84 => 0xB4C37BD6#32
  | 85 => 0x34CCABDA#32
  | 86 => 0xB4D69568#32
  | 87 => 0x34E14C49#32
  | 88 => 0xB4ECE6F7#32
  | 89 => 0x34F97F13#32
  | 90 => 0xB50398F7#32
  | 91 => 0x350B1097#32
  | 92 => 0xB51339CD#32
  | 93 => 0x351C2B08#32
  | 94 => 0xB525FE56#32
  | 95 => 0x3530D21D#32
  | 96 => 0xB53CCA00#32
  | 97 => 0x354A0FF9#32
  | 98 => 0xB558D5BB#32
  | 99 => 0x35695670#32
  | 100 => 0xB57BD8F1#32
  | 101 => 0x3588594C#32
  | 102 => 0xB5942572#32
  | 103 => 0x35A19018#32
  | 104 => 0xB5B0E6EF#32
  | 105 => 0x35C28A3B#32
  | 106 => 0xB5D6F23A#32
  | 107 => 0x35EEB658#32
  | 108 => 0xB6054B76#32
  | 109 => 0x3615C529#32
  | 110 => 0xB6296767#32
  | 111 => 0x3641014B#32
  | 112 => 0xB65DA20C#32
  | 113 => 0x368056F2#32
  | 114 => 0xB695FBC4#32
  | 115 => 0x36B0ED61#32
  | 116 => 0xB6D29E9B#32
  | 117 => 0x36FFBDB2#32
  | 118 => 0xB692EE32#32
  | 119 => 0x391EBB1A#32
  | 120 => 0x3B12D0DF#32
  | 121 => 0x3CA0086D#32
  | 122 => 0x3DBAD58B#32
  | 123 => 0x3E6BB748#32
  | 124 => 0x3EA069FE#32
  | 125 => 0x3E6BB748#32
  | 126 => 0x3DBAD58B#32
  | 127 => 0x3CA0086D#32
  | _ => 0#32

noncomputable abbrev lit0t0_249 (i : Nat) : BitVec 32 := match i % 128 with
  | 0 => 0x3B12D0DF#32
  | 1 => 0x391EBB1A#32
  | 2 => 0xB692EE32#32
  | 3 => 0x36FFBDB2#32
  | 4 => 0xB6D29E9B#32
  | 5 => 0x36B0ED61#32
  | 6 => 0xB695FBC4#32
  | 7 => 0x368056F2#32
  | 8 => 0xB65DA20C#32
  | 9 => 0x3641014B#32
  | 10 => 0xB6296767#32
  | 11 => 0x3615C529#32
  | 12 => 0xB6054B76#32
  | 13 => 0x35EEB658#32
  | 14 => 0xB5D6F23A#32
  | 15 => 0x35C28A3B#32
  | 16 => 0xB5B0E6EF#32
  | 17 => 0x35A19018#32
  | 18 => 0xB5942572#32
  | 19 => 0x3588594C#32
  | 20 => 0xB57BD8F1#32
  | 21 => 0x35695670#32
  | 22 => 0xB558D5BB#32
  | 23 => 0x354A0FF9#32
  | 24 => 0xB53CCA00#32
  | 25 => 0x3530D21D#32
  | 26 => 0xB525FE56#32
  | 27 => 0x351C2B08#32
  | 28 => 0xB51339CD#32
  | 29 => 0x350B1097#32
  | 30 => 0xB50398F7#32
  | 31 => 0x34F97F13#32
  | 32 => 0xB4ECE6F7#32
  | 33 => 0x34E14C49#32
  | 34 => 0xB4D69568#32
  | 35 => 0x34CCABDA#32
  | 36 => 0xB4C37BD6#32
  | 37 => 0x34BAF3E5#32
  | 38 => 0xB4B30492#32
  | 39 => 0x34ABA023#32
  | 40 => 0xB4A4BA5F#32
  | 41 => 0x349E485F#32
  | 42 => 0xB4984061#32
  | 43 => 0x349299A5#32
  | 44 => 0xB48D4C4D#32
  | 45 => 0x34885142#32
  | 46 => 0xB483A221#32
  | 47 => 0x347E723F#32
  | 48 => 0xB4762200#32
  | 49 => 0x346E49FF#32
  | 50 => 0xB466E193#32
  | 51 => 0x345FE0DA#32
  | 52 => 0xB45940A1#32
  | 53 => 0x3452FA51#32
  | 54 => 0xB44D07E6#32
  | 55 => 0x344763DA#32
  | 56 => 0xB4420919#32
  | 57 => 0x343CF2FA#32
  | 58 => 0xB4381D32#32
  | 59 => 0x343383CC#32
  | 60 => 0xB42F2322#32
  | 61 => 0x342AF7D2#32
  | 62 => 0xB426FEBD#32
  | 63 => 0x342334FF#32
  | 64 => 0xB41F97EA#32
  | 65 => 0x341C2500#32
  | 66 => 0xB418D9F0#32
  | 67 => 0x3415B495#32
  | 68 => 0xB412B2ED#32
  | 69 => 0x340FD31A#32
  | 70 => 0xB40D1360#32
  | 71 => 0x340A721F#32
  | 72 => 0xB407EDD1#32
  | 73 => 0x3405850C#32
  | 74 => 0xB403367C#32
  | 75 => 0x340100E3#32
  | 76 => 0xB3FDC62E#32
  | 77 => 0x33F9B800#32
  | 78 => 0xB3F5D532#32
  | 79 => 0x33F21BD6#32
  | 80 => 0xB3EE8A1F#32
  | 81 => 0x33EB1E5A#32
  | 82 => 0xB3E7D6EF#32
  | 83 => 0x33E4B25D#32
  | 84 => 0xB3E1AF3D#32
  | 85 => 0x33DECC38#32
  | 86 => 0xB3DC0810#32
  | 87 => 0x33D96196#32
  | 88 => 0xB3D6D7AE#32
  | 89 => 0x33D4694B#32
  | 90 => 0xB3D21572#32
  | 91 => 0x33CFDB34#32
  | 92 => 0xB3CDB9B1#32
  | 93 => 0x33CBB015#32
  | 94 => 0xB3C9BD97#32
  | 95 => 0x33C7E17D#32
  | 96 => 0xB3C61B15#32
  | 97 => 0x33C469B8#32
  | 98 => 0xB3C2CCC7#32
  | 99 => 0x33C143B0#32
  | 100 => 0xB3BFCDE6#32
  | 101 => 0x33BE6AE7#32
  | 102 => 0xB3BD1A36#32
  | 103 => 0x33BBDB61#32
  | 104 => 0xB3BAADFB#32
  | 105 => 0x33B9919E#32
  | 106 => 0xB3B885EC#32
  | 107 => 0x33B78A8A#32
  | 108 => 0xB3B69F28#32
  | 109 => 0x33B5C377#32
  | 110 => 0xB3B4F732#32
  | 111 => 0x33B43A15#32
  | 112 => 0xB3B38BE5#32
  | 113 => 0x33B2EC6A#32
  | 114 => 0xB3B25B72#32
  | 115 => 0x33B1D8CF#32
  | 116 => 0xB3B16459#32
  | 117 => 0x33B0FDEA#32
  | 118 => 0xB3B0A563#32
  | 119 => 0x33B05AA9#32
  | 120 => 0xB3B01DA5#32
  | 121 => 0x33AFEE43#32
  | 122 => 0xB3AFCC75#32
  | 123 => 0x33AFB831#32
  | 124 => 0xB3AFB170#32
  | 125 => 0x33AFB831#32
  | 126 => 0xB3AFCC75#32
  | 127 => 0x33AFEE43#32
  | _ => 0#32

noncomputable abbrev lit0t0_250 (i : Nat) : BitVec 32 := match i % 128 with
  | 0 => 0x33AFEE43#32
  | 1 => 0xB3B01DA5#32
  | 2 => 0x33B05AA9#32
  | 3 => 0xB3B0A563#32
  | 4 => 0x33B0FDEA#32
  | 5 => 0xB3B16459#32
  | 6 => 0x33B1D8CF#32
  | 7 => 0xB3B25B72#32
  | 8 => 0x33B2EC6A#32
  | 9 => 0xB3B38BE5#32
  | 10 => 0x33B43A15#32
  | 11 => 0xB3B4F732#32
  | 12 => 0x33B5C377#32
  | 13 => 0xB3B69F28#32
  | 14 => 0x33B78A8A#32
  | 15 => 0xB3B885EC#32
  | 16 => 0x33B9919E#32
  | 17 => 0xB3BAADFB#32
  | 18 => 0x33BBDB61#32
  | 19 => 0xB3BD1A36#32
  | 20 => 0x33BE6AE7#32
  | 21 => 0xB3BFCDE6#32
  | 22 => 0x33C143B0#32
  | 23 => 0xB3C2CCC7#32
  | 24 => 0x33C469B8#32
  | 25 => 0xB3C61B15#32
  | 26 => 0x33C7E17D#32
  | 27 => 0xB3C9BD97#32
  | 28 => 0x33CBB015#32
  | 29 => 0xB3CDB9B1#32
  | 30 => 0x33CFDB34#32
  | 31 => 0xB3D21572#32
  | 32 => 0x33D4694B#32
  | 33 => 0xB3D6D7AE#32
  | 34 => 0x33D96196#32
  | 35 => 0xB3DC0810#32
  | 36 => 0x33DECC38#32
  | 37 => 0xB3E1AF3D#32
  | 38 => 0x33E4B25D#32
  | 39 => 0xB3E7D6EF#32
  | 40 => 0x33EB1E5A#32
  | 41 => 0xB3EE8A1F#32
  | 42 => 0x33F21BD6#32
  | 43 => 0xB3F5D532#32
  | 44 => 0x33F9B800#32
  | 45 => 0xB3FDC62E#32
  | 46 => 0x340100E3#32
  | 47 => 0xB403367C#32
  | 48 => 0x3405850C#32
  | 49 => 0xB407EDD1#32
  | 50 => 0x340A721F#32
  | 51 => 0xB40D1360#32
  | 52 => 0x340FD31A#32
  | 53 => 0xB412B2ED#32
  | 54 => 0x3415B495#32
  | 55 => 0xB418D9F0#32
  | 56 => 0x341C2500#32
  | 57 => 0xB41F97EA#32
  | 58 => 0x342334FF#32
  | 59 => 0xB426FEBD#32
  | 60 => 0x342AF7D2#32
  | 61 => 0xB42F2322#32
  | 62 => 0x343383CC#32
  | 63 => 0xB4381D32#32
  | 64 => 0x343CF2FA#32
  | 65 => 0xB4420919#32
  | 66 => 0x344763DA#32
  | 67 => 0xB44D07E6#32
  | 68 => 0x3452FA51#32
  | 69 => 0xB45940A1#32
  | 70 => 0x345FE0DA#32
  | 71 => 0xB466E193#32
  | 72 => 0x346E49FF#32
  | 73 => 0xB4762200#32
  | 74 => 0x347E723F#32
  | 75 => 0xB483A221#32
  | 76 => 0x34885142#32
  | 77 => 0xB48D4C4D#32
  | 78 => 0x349299A5#32
  | 79 => 0xB4984061#32
  | 80 => 0x349E485F#32
  | 81 => 0xB4A4BA5F#32
  | 82 => 0x34ABA023#32
  | 83 => 0xB4B30492#32
  | 84 => 0x34BAF3E5#32
  | 85 => 0xB4C37BD6#32
  | 86 => 0x34CCABDA#32
  | 87 => 0xB4D69568#32
  | 88 => 0x34E14C49#32
  | 89 => 0xB4ECE6F7#32
  | 90 => 0x34F97F13#32
  | 91 => 0xB50398F7#32
  | 92 => 0x350B1097#32
  | 93 => 0xB51339CD#32
  | 94 => 0x351C2B08#32
  | 95 => 0xB525FE56#32
  | 96 => 0x3530D21D#32
  | 97 => 0xB53CCA00#32
  | 98 => 0x354A0FF9#32
  | 99 => 0xB558D5BB#32
  | 100 => 0x35695670#32
  | 101 => 0xB57BD8F1#32
  | 102 => 0x3588594C#32
  | 103 => 0xB5942572#32
  | 104 => 0x35A19018#32
  | 105 => 0xB5B0E6EF#32
  | 106 => 0x35C28A3B#32
  | 107 => 0xB5D6F23A#32
  | 108 => 0x35EEB658#32
  | 109 => 0xB6054B76#32
  | 110 => 0x3615C529#32
  | 111 => 0xB6296767#32
  | 112 => 0x3641014B#32
  | 113 => 0xB65DA20C#32
  | 114 => 0x368056F2#32
  | 115 => 0xB695FBC4#32
  | 116 => 0x36B0ED61#32
  | 117 => 0xB6D29E9B#32
  | 118 => 0x36FFBDB2#32
  | 119 => 0xB692EE32#32
  | 120 => 0x391EBB1A#32
  | 121 => 0x3B12D0DF#32
  | 122 => 0x3CA0086D#32
  | 123 => 0x3DBAD58B#32
  | 124 => 0x3E6BB748#32
  | 125 => 0x3EA069FE#32
  | 126 => 0x3E6BB748#32
  | 127 => 0x3DBAD58B#32
  | _ => 0#32

noncomputable abbrev lit0t0_251 (i : Nat) : BitVec 32 := match i % 128 with
  | 0 => 0x3CA0086D#32
  | 1 => 0x3B12D0DF#32
  | 2 => 0x391EBB1A#32
  | 3 => 0xB692EE32#32
  | 4 => 0x36FFBDB2#32
  | 5 => 0xB6D29E9B#32
  | 6 => 0x36B0ED61#32
  | 7 => 0xB695FBC4#32
  | 8 => 0x368056F2#32
  | 9 => 0xB65DA20C#32
  | 10 => 0x3641014B#32
  | 11 => 0xB6296767#32
  | 12 => 0x3615C529#32
  | 13 => 0xB6054B76#32
  | 14 => 0x35EEB658#32
  | 15 => 0xB5D6F23A#32
  | 16 => 0x35C28A3B#32
  | 17 => 0xB5B0E6EF#32
  | 18 => 0x35A19018#32
  | 19 => 0xB5942572#32
  | 20 => 0x3588594C#32
  | 21 => 0xB57BD8F1#32
  | 22 => 0x35695670#32
  | 23 => 0xB558D5BB#32
  | 24 => 0x354A0FF9#32
  | 25 => 0xB53CCA00#32
  | 26 => 0x3530D21D#32
  | 27 => 0xB525FE56#32
  | 28 => 0x351C2B08#32
  | 29 => 0xB51339CD#32
  | 30 => 0x350B1097#32
  | 31 => 0xB50398F7#32
  | 32 => 0x34F97F13#32
  | 33 => 0xB4ECE6F7#32
  | 34 => 0x34E14C49#32
  | 35 => 0xB4D69568#32
  | 36 => 0x34CCABDA#32
  | 37 => 0xB4C37BD6#32
  | 38 => 0x34BAF3E5#32
  | 39 => 0xB4B30492#32
  | 40 => 0x34ABA023#32
  | 41 => 0xB4A4BA5F#32
  | 42 => 0x349E485F#32
  | 43 => 0xB4984061#32
  | 44 => 0x349299A5#32
  | 45 => 0xB48D4C4D#32
  | 46 => 0x34885142#32
  | 47 => 0xB483A221#32
  | 48 => 0x347E723F#32
  | 49 => 0xB4762200#32
  | 50 => 0x346E49FF#32
  | 51 => 0xB466E193#32
  | 52 => 0x345FE0DA#32
  | 53 => 0xB45940A1#32
  | 54 => 0x3452FA51#32
  | 55 => 0xB44D07E6#32
  | 56 => 0x344763DA#32
  | 57 => 0xB4420919#32
  | 58 => 0x343CF2FA#32
  | 59 => 0xB4381D32#32
  | 60 => 0x343383CC#32
  | 61 => 0xB42F2322#32
  | 62 => 0x342AF7D2#32
  | 63 => 0xB426FEBD#32
  | 64 => 0x342334FF#32
  | 65 => 0xB41F97EA#32
  | 66 => 0x341C2500#32
  | 67 => 0xB418D9F0#32
  | 68 => 0x3415B495#32
  | 69 => 0xB412B2ED#32
  | 70 => 0x340FD31A#32
  | 71 => 0xB40D1360#32
  | 72 => 0x340A721F#32
  | 73 => 0xB407EDD1#32
  | 74 => 0x3405850C#32
  | 75 => 0xB403367C#32
  | 76 => 0x340100E3#32
  | 77 => 0xB3FDC62E#32
  | 78 => 0x33F9B800#32
  | 79 => 0xB3F5D532#32
  | 80 => 0x33F21BD6#32
  | 81 => 0xB3EE8A1F#32
  | 82 => 0x33EB1E5A#32
  | 83 => 0xB3E7D6EF#32
  | 84 => 0x33E4B25D#32
  | 85 => 0xB3E1AF3D#32
  | 86 => 0x33DECC38#32
  | 87 => 0xB3DC0810#32
  | 88 => 0x33D96196#32
  | 89 => 0xB3D6D7AE#32
  | 90 => 0x33D4694B#32
  | 91 => 0xB3D21572#32
  | 92 => 0x33CFDB34#32
  | 93 => 0xB3CDB9B1#32
  | 94 => 0x33CBB015#32
  | 95 => 0xB3C9BD97#32
  | 96 => 0x33C7E17D#32
  | 97 => 0xB3C61B15#32
  | 98 => 0x33C469B8#32
  | 99 => 0xB3C2CCC7#32
  | 100 => 0x33C143B0#32
  | 101 => 0xB3BFCDE6#32
  | 102 => 0x33BE6AE7#32
  | 103 => 0xB3BD1A36#32
  | 104 => 0x33BBDB61#32
  | 105 => 0xB3BAADFB#32
  | 106 => 0x33B9919E#32
  | 107 => 0xB3B885EC#32
  | 108 => 0x33B78A8A#32
  | 109 => 0xB3B69F28#32
  | 110 => 0x33B5C377#32
  | 111 => 0xB3B4F732#32
  | 112 => 0x33B43A15#32
  | 113 => 0xB3B38BE5#32
  | 114 => 0x33B2EC6A#32
  | 115 => 0xB3B25B72#32
  | 116 => 0x33B1D8CF#32
  | 117 => 0xB3B16459#32
  | 118 => 0x33B0FDEA#32
  | 119 => 0xB3B0A563#32
  | 120 => 0x33B05AA9#32
  | 121 => 0xB3B01DA5#32
  | 122 => 0x33AFEE43#32
  | 123 => 0xB3AFCC75#32
  | 124 => 0x33AFB831#32
  | 125 => 0xB3AFB170#32
  | 126 => 0x33AFB831#32
  | 127 => 0xB3AFCC75#32
  | _ => 0#32

noncomputable abbrev lit0t0_252 (i : Nat) : BitVec 32 := match i % 128 with
  | 0 => 0xB3AFCC75#32
  | 1 => 0x33AFEE43#32
  | 2 => 0xB3B01DA5#32
  | 3 => 0x33B05AA9#32
  | 4 => 0xB3B0A563#32
  | 5 => 0x33B0FDEA#32
  | 6 => 0xB3B16459#32
  | 7 => 0x33B1D8CF#32
  | 8 => 0xB3B25B72#32
  | 9 => 0x33B2EC6A#32
  | 10 => 0xB3B38BE5#32
  | 11 => 0x33B43A15#32
  | 12 => 0xB3B4F732#32
  | 13 => 0x33B5C377#32
  | 14 => 0xB3B69F28#32
  | 15 => 0x33B78A8A#32
  | 16 => 0xB3B885EC#32
  | 17 => 0x33B9919E#32
  | 18 => 0xB3BAADFB#32
  | 19 => 0x33BBDB61#32
  | 20 => 0xB3BD1A36#32
  | 21 => 0x33BE6AE7#32
  | 22 => 0xB3BFCDE6#32
  | 23 => 0x33C143B0#32
  | 24 => 0xB3C2CCC7#32
  | 25 => 0x33C469B8#32
  | 26 => 0xB3C61B15#32
  | 27 => 0x33C7E17D#32
  | 28 => 0xB3C9BD97#32
  | 29 => 0x33CBB015#32
  | 30 => 0xB3CDB9B1#32
  | 31 => 0x33CFDB34#32
  | 32 => 0xB3D21572#32
  | 33 => 0x33D4694B#32
  | 34 => 0xB3D6D7AE#32
  | 35 => 0x33D96196#32
  | 36 => 0xB3DC0810#32
  | 37 => 0x33DECC38#32
  | 38 => 0xB3E1AF3D#32
  | 39 => 0x33E4B25D#32
  | 40 => 0xB3E7D6EF#32
  | 41 => 0x33EB1E5A#32
  | 42 => 0xB3EE8A1F#32
  | 43 => 0x33F21BD6#32
  | 44 => 0xB3F5D532#32
  | 45 => 0x33F9B800#32
  | 46 => 0xB3FDC62E#32
  | 47 => 0x340100E3#32
  | 48 => 0xB403367C#32
  | 49 => 0x3405850C#32
  | 50 => 0xB407EDD1#32
  | 51 => 0x340A721F#32
  | 52 => 0xB40D1360#32
  | 53 => 0x340FD31A#32
  | 54 => 0xB412B2ED#32
  | 55 => 0x3415B495#32
  | 56 => 0xB418D9F0#32
  | 57 => 0x341C2500#32
  | 58 => 0xB41F97EA#32
  | 59 => 0x342334FF#32
  | 60 => 0xB426FEBD#32
  | 61 => 0x342AF7D2#32
  | 62 => 0xB42F2322#32
  | 63 => 0x343383CC#32
  | 64 => 0xB4381D32#32
  | 65 => 0x343CF2FA#32
  | 66 => 0xB4420919#32
  | 67 => 0x344763DA#32
  | 68 => 0xB44D07E6#32
  | 69 => 0x3452FA51#32
  | 70 => 0xB45940A1#32
  | 71 => 0x345FE0DA#32
  | 72 => 0xB466E193#32
  | 73 => 0x346E49FF#32
  | 74 => 0xB4762200#32
  | 75 => 0x347E723F#32
  | 76 => 0xB483A221#32
  | 77 => 0x34885142#32
  | 78 => 0xB48D4C4D#32
  | 79 => 0x349299A5#32
  | 80 => 0xB4984061#32
  | 81 => 0x349E485F#32
  | 82 => 0xB4A4BA5F#32
  | 83 => 0x34ABA023#32
  | 84 => 0xB4B30492#32
  | 85 => 0x34BAF3E5#32
  | 86 => 0xB4C37BD6#32
  | 87 => 0x34CCABDA#32
  | 88 => 0xB4D69568#32
  | 89 => 0x34E14C49#32
  | 90 => 0xB4ECE6F7#32
  | 91 => 0x34F97F13#32
  | 92 => 0xB50398F7#32
  | 93 => 0x350B1097#32
  | 94 => 0xB51339CD#32
  | 95 => 0x351C2B08#32
  | 96 => 0xB525FE56#32
  | 97 => 0x3530D21D#32
  | 98 => 0xB53CCA00#32
  | 99 => 0x354A0FF9#32
  | 100 => 0xB558D5BB#32
  | 101 => 0x35695670#32
  | 102 => 0xB57BD8F1#32
  | 103 => 0x3588594C#32
  | 104 => 0xB5942572#32
  | 105 => 0x35A19018#32
  | 106 => 0xB5B0E6EF#32
  | 107 => 0x35C28A3B#32
  | 108 => 0xB5D6F23A#32
  | 109 => 0x35EEB658#32
  | 110 => 0xB6054B76#32
  | 111 => 0x3615C529#32
  | 112 => 0xB6296767#32
  | 113 => 0x3641014B#32
  | 114 => 0xB65DA20C#32
  | 115 => 0x368056F2#32
  | 116 => 0xB695FBC4#32
  | 117 => 0x36B0ED61#32
  | 118 => 0xB6D29E9B#32
  | 119 => 0x36FFBDB2#32
  | 120 => 0xB692EE32#32
  | 121 => 0x391EBB1A#32
  | 122 => 0x3B12D0DF#32
  | 123 => 0x3CA0086D#32
  | 124 => 0x3DBAD58B#32
  | 125 => 0x3E6BB748#32
  | 126 => 0x3EA069FE#32
  | 127 => 0x3E6BB748#32
  | _ => 0#32

noncomputable abbrev lit0t0_253 (i : Nat) : BitVec 32 := match i % 128 with
  | 0 => 0x3DBAD58B#32
  | 1 => 0x3CA0086D#32
  | 2 => 0x3B12D0DF#32
  | 3 => 0x391EBB1A#32
  | 4 => 0xB692EE32#32
  | 5 => 0x36FFBDB2#32
  | 6 => 0xB6D29E9B#32
  | 7 => 0x36B0ED61#32
  | 8 => 0xB695FBC4#32
  | 9 => 0x368056F2#32
  | 10 => 0xB65DA20C#32
  | 11 => 0x3641014B#32
  | 12 => 0xB6296767#32
  | 13 => 0x3615C529#32
  | 14 => 0xB6054B76#32
  | 15 => 0x35EEB658#32
  | 16 => 0xB5D6F23A#32
  | 17 => 0x35C28A3B#32
  | 18 => 0xB5B0E6EF#32
  | 19 => 0x35A19018#32
  | 20 => 0xB5942572#32
  | 21 => 0x3588594C#32
  | 22 => 0xB57BD8F1#32
  | 23 => 0x35695670#32
  | 24 => 0xB558D5BB#32
  | 25 => 0x354A0FF9#32
  | 26 => 0xB53CCA00#32
  | 27 => 0x3530D21D#32
  | 28 => 0xB525FE56#32
  | 29 => 0x351C2B08#32
  | 30 => 0xB51339CD#32
  | 31 => 0x350B1097#32
  | 32 => 0xB50398F7#32
  | 33 => 0x34F97F13#32
  | 34 => 0xB4ECE6F7#32
  | 35 => 0x34E14C49#32
  | 36 => 0xB4D69568#32
  | 37 => 0x34CCABDA#32
  | 38 => 0xB4C37BD6#32
  | 39 => 0x34BAF3E5#32
  | 40 => 0xB4B30492#32
  | 41 => 0x34ABA023#32
  | 42 => 0xB4A4BA5F#32
  | 43 => 0x349E485F#32
  | 44 => 0xB4984061#32
  | 45 => 0x349299A5#32
  | 46 => 0xB48D4C4D#32
  | 47 => 0x34885143#32
  | 48 => 0xB483A221#32
  | 49 => 0x347E723F#32
  | 50 => 0xB4762200#32
  | 51 => 0x346E49FF#32
  | 52 => 0xB466E193#32
  | 53 => 0x345FE0DA#32
  | 54 => 0xB45940A1#32
  | 55 => 0x3452FA51#32
  | 56 => 0xB44D07E6#32
  | 57 => 0x344763DA#32
  | 58 => 0xB4420919#32
  | 59 => 0x343CF2FA#32
  | 60 => 0xB4381D32#32
  | 61 => 0x343383CC#32
  | 62 => 0xB42F2322#32
  | 63 => 0x342AF7D2#32
  | 64 => 0xB426FEBD#32
  | 65 => 0x342334FF#32
  | 66 => 0xB41F97EA#32
  | 67 => 0x341C2500#32
  | 68 => 0xB418D9F0#32
  | 69 => 0x3415B495#32
  | 70 => 0xB412B2ED#32
  | 71 => 0x340FD31A#32
  | 72 => 0xB40D1360#32
  | 73 => 0x340A721F#32
  | 74 => 0xB407EDD1#32
  | 75 => 0x3405850C#32
  | 76 => 0xB403367C#32
  | 77 => 0x340100E3#32
  | 78 => 0xB3FDC62E#32
  | 79 => 0x33F9B800#32
  | 80 => 0xB3F5D532#32
  | 81 => 0x33F21BD6#32
  | 82 => 0xB3EE8A1F#32
  | 83 => 0x33EB1E5A#32
  | 84 => 0xB3E7D6EF#32
  | 85 => 0x33E4B25D#32
  | 86 => 0xB3E1AF3D#32
  | 87 => 0x33DECC38#32
  | 88 => 0xB3DC0810#32
  | 89 => 0x33D96196#32
  | 90 => 0xB3D6D7AE#32
  | 91 => 0x33D4694B#32
  | 92 => 0xB3D21572#32
  | 93 => 0x33CFDB34#32
  | 94 => 0xB3CDB9B1#32
  | 95 => 0x33CBB015#32
  | 96 => 0xB3C9BD97#32
  | 97 => 0x33C7E17D#32
  | 98 => 0xB3C61B15#32
  | 99 => 0x33C469B8#32
  | 100 => 0xB3C2CCC7#32
  | 101 => 0x33C143B0#32
  | 102 => 0xB3BFCDE6#32
  | 103 => 0x33BE6AE7#32
  | 104 => 0xB3BD1A36#32
  | 105 => 0x33BBDB61#32
  | 106 => 0xB3BAADFB#32
  | 107 => 0x33B9919E#32
  | 108 => 0xB3B885EC#32
  | 109 => 0x33B78A8A#32
  | 110 => 0xB3B69F28#32
  | 111 => 0x33B5C377#32
  | 112 => 0xB3B4F732#32
  | 113 => 0x33B43A15#32
  | 114 => 0xB3B38BE5#32
  | 115 => 0x33B2EC6A#32
  | 116 => 0xB3B25B72#32
  | 117 => 0x33B1D8CF#32
  | 118 => 0xB3B16459#32
  | 119 => 0x33B0FDEA#32
  | 120 => 0xB3B0A563#32
  | 121 => 0x33B05AA9#32
  | 122 => 0xB3B01DA5#32
  | 123 => 0x33AFEE43#32
  | 124 => 0xB3AFCC75#32
  | 125 => 0x33AFB831#32
  | 126 => 0xB3AFB170#32
  | 127 => 0x33AFB831#32
  | _ => 0#32

noncomputable abbrev lit0t0_254 (i : Nat) : BitVec 32 := match i % 128 with
  | 0 => 0x33AFB831#32
  | 1 => 0xB3AFCC75#32
  | 2 => 0x33AFEE43#32
  | 3 => 0xB3B01DA5#32
  | 4 => 0x33B05AA9#32
  | 5 => 0xB3B0A563#32
  | 6 => 0x33B0FDEA#32
  | 7 => 0xB3B16459#32
  | 8 => 0x33B1D8CF#32
  | 9 => 0xB3B25B72#32
  | 10 => 0x33B2EC6A#32
  | 11 => 0xB3B38BE5#32
  | 12 => 0x33B43A15#32
  | 13 => 0xB3B4F732#32
  | 14 => 0x33B5C377#32
  | 15 => 0xB3B69F28#32
  | 16 => 0x33B78A8A#32
  | 17 => 0xB3B885EC#32
  | 18 => 0x33B9919E#32
  | 19 => 0xB3BAADFB#32
  | 20 => 0x33BBDB61#32
  | 21 => 0xB3BD1A36#32
  | 22 => 0x33BE6AE7#32
  | 23 => 0xB3BFCDE6#32
  | 24 => 0x33C143B0#32
  | 25 => 0xB3C2CCC7#32
  | 26 => 0x33C469B8#32
  | 27 => 0xB3C61B15#32
  | 28 => 0x33C7E17D#32
  | 29 => 0xB3C9BD97#32
  | 30 => 0x33CBB015#32
  | 31 => 0xB3CDB9B1#32
  | 32 => 0x33CFDB34#32
  | 33 => 0xB3D21572#32
  | 34 => 0x33D4694B#32
  | 35 => 0xB3D6D7AE#32
  | 36 => 0x33D96196#32
  | 37 => 0xB3DC0810#32
  | 38 => 0x33DECC38#32
  | 39 => 0xB3E1AF3D#32
  | 40 => 0x33E4B25D#32
  | 41 => 0xB3E7D6EF#32
  | 42 => 0x33EB1E5A#32
  | 43 => 0xB3EE8A1F#32
  | 44 => 0x33F21BD6#32
  | 45 => 0xB3F5D532#32
  | 46 => 0x33F9B800#32
  | 47 => 0xB3FDC62E#32
  | 48 => 0x340100E3#32
  | 49 => 0xB403367C#32
  | 50 => 0x3405850C#32
  | 51 => 0xB407EDD1#32
  | 52 => 0x340A721F#32
  | 53 => 0xB40D1360#32
  | 54 => 0x340FD31A#32
  | 55 => 0xB412B2ED#32
  | 56 => 0x3415B495#32
  | 57 => 0xB418D9F0#32
  | 58 => 0x341C2500#32
  | 59 => 0xB41F97EA#32
  | 60 => 0x342334FF#32
  | 61 => 0xB426FEBD#32
  | 62 => 0x342AF7D2#32
  | 63 => 0xB42F2322#32
  | 64 => 0x343383CC#32
  | 65 => 0xB4381D32#32
  | 66 => 0x343CF2FA#32
  | 67 => 0xB4420919#32
  | 68 => 0x344763DA#32
  | 69 => 0xB44D07E6#32
  | 70 => 0x3452FA51#32
  | 71 => 0xB45940A1#32
  | 72 => 0x345FE0DA#32
  | 73 => 0xB466E193#32
  | 74 => 0x346E49FF#32
  | 75 => 0xB4762200#32
  | 76 => 0x347E723F#32
  | 77 => 0xB483A221#32
  | 78 => 0x34885143#32
  | 79 => 0xB48D4C4D#32
  | 80 => 0x349299A5#32
  | 81 => 0xB4984061#32
  | 82 => 0x349E485F#32
  | 83 => 0xB4A4BA5F#32
  | 84 => 0x34ABA023#32
  | 85 => 0xB4B30492#32
  | 86 => 0x34BAF3E5#32
  | 87 => 0xB4C37BD6#32
  | 88 => 0x34CCABDA#32
  | 89 => 0xB4D69568#32
  | 90 => 0x34E14C49#32
  | 91 => 0xB4ECE6F7#32
  | 92 => 0x34F97F13#32
  | 93 => 0xB50398F7#32
  | 94 => 0x350B1097#32
  | 95 => 0xB51339CD#32
  | 96 => 0x351C2B08#32
  | 97 => 0xB525FE56#32
  | 98 => 0x3530D21D#32
  | 99 => 0xB53CCA00#32
  | 100 => 0x354A0FF9#32
  | 101 => 0xB558D5BB#32
  | 102 => 0x35695670#32
  | 103 => 0xB57BD8F1#32
  | 104 => 0x3588594C#32
  | 105 => 0xB5942572#32
  | 106 => 0x35A19018#32
  | 107 => 0xB5B0E6EF#32
  | 108 => 0x35C28A3B#32
  | 109 => 0xB5D6F23A#32
  | 110 => 0x35EEB658#32
  | 111 => 0xB6054B76#32
  | 112 => 0x3615C529#32
  | 113 => 0xB6296767#32
  | 114 => 0x3641014B#32
  | 115 => 0xB65DA20C#32
  | 116 => 0x368056F2#32
  | 117 => 0xB695FBC4#32
  | 118 => 0x36B0ED61#32
  | 119 => 0xB6D29E9B#32
  | 120 => 0x36FFBDB2#32
  | 121 => 0xB692EE32#32
  | 122 => 0x391EBB1A#32
  | 123 => 0x3B12D0DF#32
  | 124 => 0x3CA0086D#32
  | 125 => 0x3DBAD58B#32
  | 126 => 0x3E6BB748#32
  | 127 => 0x3EA069FE#32
  | _ => 0#32

noncomputable abbrev lit0t0_255 (i : Nat) : BitVec 32 := match i % 128 with
  | 0 => 0x3E6BB748#32
  | 1 => 0x3DBAD58B#32
  | 2 => 0x3CA0086D#32
  | 3 => 0x3B12D0DF#32
  | 4 => 0x391EBB1A#32
  | 5 => 0xB692EE32#32
  | 6 => 0x36FFBDB2#32
  | 7 => 0xB6D29E9B#32
  | 8 => 0x36B0ED61#32
  | 9 => 0xB695FBC4#32
  | 10 => 0x368056F2#32
  | 11 => 0xB65DA20C#32
  | 12 => 0x3641014B#32
  | 13 => 0xB6296767#32
  | 14 => 0x3615C529#32
  | 15 => 0xB6054B76#32
  | 16 => 0x35EEB658#32
  | 17 => 0xB5D6F23A#32
  | 18 => 0x35C28A3B#32
  | 19 => 0xB5B0E6EF#32
  | 20 => 0x35A19018#32
  | 21 => 0xB5942572#32
  | 22 => 0x3588594C#32
  | 23 => 0xB57BD8F1#32
  | 24 => 0x35695670#32
  | 25 => 0xB558D5BB#32
  | 26 => 0x354A0FF9#32
  | 27 => 0xB53CCA00#32
  | 28 => 0x3530D21D#32
  | 29 => 0xB525FE56#32
  | 30 => 0x351C2B08#32
  | 31 => 0xB51339CD#32
  | 32 => 0x350B1097#32
  | 33 => 0xB50398F7#32
  | 34 => 0x34F97F13#32
  | 35 => 0xB4ECE6F7#32
  | 36 => 0x34E14C49#32
  | 37 => 0xB4D69568#32
  | 38 => 0x34CCABDA#32
  | 39 => 0xB4C37BD6#32
  | 40 => 0x34BAF3E5#32
  | 41 => 0xB4B30492#32
  | 42 => 0x34ABA023#32
  | 43 => 0xB4A4BA5F#32
  | 44 => 0x349E485F#32
  | 45 => 0xB4984061#32
  | 46 => 0x349299A5#32
  | 47 => 0xB48D4C4D#32
  | 48 => 0x34885143#32
  | 49 => 0xB483A221#32
  | 50 => 0x347E723F#32
  | 51 => 0xB4762200#32
  | 52 => 0x346E49FF#32
  | 53 => 0xB466E193#32
  | 54 => 0x345FE0DA#32
  | 55 => 0xB45940A1#32
  | 56 => 0x3452FA51#32
  | 57 => 0xB44D07E6#32
  | 58 => 0x344763DA#32
  | 59 => 0xB4420919#32
  | 60 => 0x343CF2FA#32
  | 61 => 0xB4381D32#32
  | 62 => 0x343383CC#32
  | 63 => 0xB42F2322#32
  | 64 => 0x342AF7D2#32
  | 65 => 0xB426FEBD#32
  | 66 => 0x342334FF#32
  | 67 => 0xB41F97EA#32
  | 68 => 0x341C2500#32
  | 69 => 0xB418D9F0#32
  | 70 => 0x3415B495#32
  | 71 => 0xB412B2ED#32
  | 72 => 0x340FD31A#32
  | 73 => 0xB40D1360#32
  | 74 => 0x340A721F#32
  | 75 => 0xB407EDD1#32
  | 76 => 0x3405850C#32
  | 77 => 0xB403367C#32
  | 78 => 0x340100E3#32
  | 79 => 0xB3FDC62E#32
  | 80 => 0x33F9B800#32
  | 81 => 0xB3F5D532#32
  | 82 => 0x33F21BD6#32
  | 83 => 0xB3EE8A1F#32
  | 84 => 0x33EB1E5A#32
  | 85 => 0xB3E7D6EF#32
  | 86 => 0x33E4B25D#32
  | 87 => 0xB3E1AF3D#32
  | 88 => 0x33DECC38#32
  | 89 => 0xB3DC0810#32
  | 90 => 0x33D96196#32
  | 91 => 0xB3D6D7AE#32
  | 92 => 0x33D4694B#32
  | 93 => 0xB3D21572#32
  | 94 => 0x33CFDB34#32
  | 95 => 0xB3CDB9B1#32
  | 96 => 0x33CBB015#32
  | 97 => 0xB3C9BD97#32
  | 98 => 0x33C7E17D#32
  | 99 => 0xB3C61B15#32
  | 100 => 0x33C469B8#32
  | 101 => 0xB3C2CCC7#32
  | 102 => 0x33C143B0#32
  | 103 => 0xB3BFCDE6#32
  | 104 => 0x33BE6AE7#32
  | 105 => 0xB3BD1A36#32
  | 106 => 0x33BBDB61#32
  | 107 => 0xB3BAADFB#32
  | 108 => 0x33B9919E#32
  | 109 => 0xB3B885EC#32
  | 110 => 0x33B78A8A#32
  | 111 => 0xB3B69F28#32
  | 112 => 0x33B5C377#32
  | 113 => 0xB3B4F732#32
  | 114 => 0x33B43A15#32
  | 115 => 0xB3B38BE5#32
  | 116 => 0x33B2EC6A#32
  | 117 => 0xB3B25B72#32
  | 118 => 0x33B1D8CF#32
  | 119 => 0xB3B16459#32
  | 120 => 0x33B0FDEA#32
  | 121 => 0xB3B0A563#32
  | 122 => 0x33B05AA9#32
  | 123 => 0xB3B01DA5#32
  | 124 => 0x33AFEE43#32
  | 125 => 0xB3AFCC75#32
  | 126 => 0x33AFB831#32
  | 127 => 0xB3AFB170#32
  | _ => 0#32

noncomputable abbrev lit0t0_256 (i : Nat) : BitVec 32 := match i % 128 with
  | 0 => 0xB3AFB170#32
  | 1 => 0x33AFB831#32
  | 2 => 0xB3AFCC75#32
  | 3 => 0x33AFEE43#32
  | 4 => 0xB3B01DA5#32
  | 5 => 0x33B05AA9#32
  | 6 => 0xB3B0A563#32
  | 7 => 0x33B0FDEA#32
  | 8 => 0xB3B16459#32
  | 9 => 0x33B1D8CF#32
  | 10 => 0xB3B25B72#32
  | 11 => 0x33B2EC6A#32
  | 12 => 0xB3B38BE5#32
  | 13 => 0x33B43A15#32
  | 14 => 0xB3B4F732#32
  | 15 => 0x33B5C377#32
  | 16 => 0xB3B69F28#32
  | 17 => 0x33B78A8A#32
  | 18 => 0xB3B885EC#32
  | 19 => 0x33B9919E#32
  | 20 => 0xB3BAADFB#32
  | 21 => 0x33BBDB61#32
  | 22 => 0xB3BD1A36#32
  | 23 => 0x33BE6AE7#32
  | 24 => 0xB3BFCDE6#32
  | 25 => 0x33C143B0#32
  | 26 => 0xB3C2CCC7#32
  | 27 => 0x33C469B8#32
  | 28 => 0xB3C61B15#32
  | 29 => 0x33C7E17D#32
  | 30 => 0xB3C9BD97#32
  | 31 => 0x33CBB015#32
  | 32 => 0xB3CDB9B1#32
  | 33 => 0x33CFDB34#32
  | 34 => 0xB3D21572#32
  | 35 => 0x33D4694B#32
  | 36 => 0xB3D6D7AE#32
  | 37 => 0x33D96196#32
  | 38 => 0xB3DC0810#32
  | 39 => 0x33DECC38#32
  | 40 => 0xB3E1AF3D#32
  | 41 => 0x33E4B25D#32
  | 42 => 0xB3E7D6EF#32
  | 43 => 0x33EB1E5A#32
  | 44 => 0xB3EE8A1F#32
  | 45 => 0x33F21BD6#32
  | 46 => 0xB3F5D532#32
  | 47 => 0x33F9B800#32
  | 48 => 0xB3FDC62E#32
  | 49 => 0x340100E3#32
  | 50 => 0xB403367C#32
  | 51 => 0x3405850C#32
  | 52 => 0xB407EDD1#32
  | 53 => 0x340A721F#32
  | 54 => 0xB40D1360#32
  | 55 => 0x340FD31A#32
  | 56 => 0xB412B2ED#32
  | 57 => 0x3415B495#32
  | 58 => 0xB418D9F0#32
  | 59 => 0x341C2500#32
  | 60 => 0xB41F97EA#32
  | 61 => 0x342334FF#32
  | 62 => 0xB426FEBD#32
  | 63 => 0x342AF7D2#32
  | 64 => 0xB42F2322#32
  | 65 => 0x343383CC#32
  | 66 => 0xB4381D32#32
  | 67 => 0x343CF2FA#32
  | 68 => 0xB4420919#32
  | 69 => 0x344763DA#32
  | 70 => 0xB44D07E6#32
  | 71 => 0x3452FA51#32
  | 72 => 0xB45940A1#32
  | 73 => 0x345FE0DA#32
  | 74 => 0xB466E193#32
  | 75 => 0x346E49FF#32
  | 76 => 0xB4762200#32
  | 77 => 0x347E723F#32
  | 78 => 0xB483A221#32
  | 79 => 0x34885143#32
  | 80 => 0xB48D4C4D#32
  | 81 => 0x349299A5#32
  | 82 => 0xB4984061#32
  | 83 => 0x349E485F#32
  | 84 => 0xB4A4BA5F#32
  | 85 => 0x34ABA023#32
  | 86 => 0xB4B30492#32
  | 87 => 0x34BAF3E5#32
  | 88 => 0xB4C37BD6#32
  | 89 => 0x34CCABDA#32
  | 90 => 0xB4D69568#32
  | 91 => 0x34E14C49#32
  | 92 => 0xB4ECE6F7#32
  | 93 => 0x34F97F13#32
  | 94 => 0xB50398F7#32
  | 95 => 0x350B1097#32
  | 96 => 0xB51339CD#32
  | 97 => 0x351C2B08#32
  | 98 => 0xB525FE56#32
  | 99 => 0x3530D21D#32
  | 100 => 0xB53CCA00#32
  | 101 => 0x354A0FF9#32
  | 102 => 0xB558D5BB#32
  | 103 => 0x35695670#32
  | 104 => 0xB57BD8F1#32
  | 105 => 0x3588594C#32
  | 106 => 0xB5942572#32
  | 107 => 0x35A19018#32
  | 108 => 0xB5B0E6EF#32
  | 109 => 0x35C28A3B#32
  | 110 => 0xB5D6F23A#32
  | 111 => 0x35EEB658#32
  | 112 => 0xB6054B76#32
  | 113 => 0x3615C529#32
  | 114 => 0xB6296767#32
  | 115 => 0x3641014B#32
  | 116 => 0xB65DA20C#32
  | 117 => 0x368056F2#32
  | 118 => 0xB695FBC4#32
  | 119 => 0x36B0ED61#32
  | 120 => 0xB6D29E9B#32
  | 121 => 0x36FFBDB2#32
  | 122 => 0xB692EE32#32
  | 123 => 0x391EBB1A#32
  | 124 => 0x3B12D0DF#32
  | 125 => 0x3CA0086D#32
  | 126 => 0x3DBAD58B#32
  | 127 => 0x3E6BB748#32
  | _ => 0#32

noncomputable abbrev lit0t0_257 (i : Nat) : BitVec 32 := match i % 128 with
  | 0 => 0x3EA069FE#32
  | 1 => 0x3E6BB748#32
  | 2 => 0x3DBAD58B#32
  | 3 => 0x3CA0086D#32
  | 4 => 0x3B12D0DF#32
  | 5 => 0x391EBB1A#32
  | 6 => 0xB692EE32#32
  | 7 => 0x36FFBDB2#32
  | 8 => 0xB6D29E9B#32
  | 9 => 0x36B0ED61#32
  | 10 => 0xB695FBC4#32
  | 11 => 0x368056F2#32
  | 12 => 0xB65DA20C#32
  | 13 => 0x3641014B#32
  | 14 => 0xB6296767#32
  | 15 => 0x3615C529#32
  | 16 => 0xB6054B76#32
  | 17 => 0x35EEB658#32
  | 18 => 0xB5D6F23A#32
  | 19 => 0x35C28A3B#32
  | 20 => 0xB5B0E6EF#32
  | 21 => 0x35A19018#32
  | 22 => 0xB5942572#32
  | 23 => 0x3588594C#32
  | 24 => 0xB57BD8F1#32
  | 25 => 0x35695670#32
  | 26 => 0xB558D5BB#32
  | 27 => 0x354A0FF9#32
  | 28 => 0xB53CCA00#32
  | 29 => 0x3530D21D#32
  | 30 => 0xB525FE56#32
  | 31 => 0x351C2B08#32
  | 32 => 0xB51339CD#32
  | 33 => 0x350B1097#32
  | 34 => 0xB50398F7#32
  | 35 => 0x34F97F13#32
  | 36 => 0xB4ECE6F7#32
  | 37 => 0x34E14C49#32
  | 38 => 0xB4D69568#32
  | 39 => 0x34CCABDA#32
  | 40 => 0xB4C37BD6#32
  | 41 => 0x34BAF3E5#32
  | 42 => 0xB4B30492#32
  | 43 => 0x34ABA023#32
  | 44 => 0xB4A4BA5F#32
  | 45 => 0x349E485F#32
  | 46 => 0xB4984061#32
  | 47 => 0x349299A5#32
  | 48 => 0xB48D4C4D#32
  | 49 => 0x34885143#32
  | 50 => 0xB483A221#32
  | 51 => 0x347E723F#32
  | 52 => 0xB4762200#32
  | 53 => 0x346E49FF#32
  | 54 => 0xB466E193#32
  | 55 => 0x345FE0DA#32
  | 56 => 0xB45940A1#32
  | 57 => 0x3452FA51#32
  | 58 => 0xB44D07E6#32
  | 59 => 0x344763DA#32
  | 60 => 0xB4420919#32
  | 61 => 0x343CF2FA#32
  | 62 => 0xB4381D32#32
  | 63 => 0x343383CC#32
  | 64 => 0xB42F2322#32
  | 65 => 0x342AF7D2#32
  | 66 => 0xB426FEBD#32
  | 67 => 0x342334FF#32
  | 68 => 0xB41F97EA#32
  | 69 => 0x341C2500#32
  | 70 => 0xB418D9F0#32
  | 71 => 0x3415B495#32
  | 72 => 0xB412B2ED#32
  | 73 => 0x340FD31A#32
  | 74 => 0xB40D1360#32
  | 75 => 0x340A721F#32
  | 76 => 0xB407EDD1#32
  | 77 => 0x3405850C#32
  | 78 => 0xB403367C#32
  | 79 => 0x340100E3#32
  | 80 => 0xB3FDC62E#32
  | 81 => 0x33F9B800#32
  | 82 => 0xB3F5D532#32
  | 83 => 0x33F21BD6#32
  | 84 => 0xB3EE8A1F#32
  | 85 => 0x33EB1E5A#32
  | 86 => 0xB3E7D6EF#32
  | 87 => 0x33E4B25D#32
  | 88 => 0xB3E1AF3D#32
  | 89 => 0x33DECC38#32
  | 90 => 0xB3DC0810#32
  | 91 => 0x33D96196#32
  | 92 => 0xB3D6D7AE#32
  | 93 => 0x33D4694B#32
  | 94 => 0xB3D21572#32
  | 95 => 0x33CFDB34#32
  | 96 => 0xB3CDB9B1#32
  | 97 => 0x33CBB015#32
  | 98 => 0xB3C9BD97#32
  | 99 => 0x33C7E17D#32
  | 100 => 0xB3C61B15#32
  | 101 => 0x33C469B8#32
  | 102 => 0xB3C2CCC7#32
  | 103 => 0x33C143B0#32
  | 104 => 0xB3BFCDE6#32
  | 105 => 0x33BE6AE7#32
  | 106 => 0xB3BD1A36#32
  | 107 => 0x33BBDB61#32
  | 108 => 0xB3BAADFB#32
  | 109 => 0x33B9919E#32
  | 110 => 0xB3B885EC#32
  | 111 => 0x33B78A8A#32
  | 112 => 0xB3B69F28#32
  | 113 => 0x33B5C377#32
  | 114 => 0xB3B4F732#32
  | 115 => 0x33B43A15#32
  | 116 => 0xB3B38BE5#32
  | 117 => 0x33B2EC6A#32
  | 118 => 0xB3B25B72#32
  | 119 => 0x33B1D8CF#32
  | 120 => 0xB3B16459#32
  | 121 => 0x33B0FDEA#32
  | 122 => 0xB3B0A563#32
  | 123 => 0x33B05AA9#32
  | 124 => 0xB3B01DA5#32
  | 125 => 0x33AFEE43#32
  | 126 => 0xB3AFCC75#32
  | 127 => 0x33AFB831#32
  | _ => 0#32

noncomputable abbrev lit0t0_258 (i : Nat) : BitVec 32 := match i % 128 with
  | 0 => 0x33AFB831#32
  | 1 => 0xB3AFB170#32
  | 2 => 0x33AFB831#32
  | 3 => 0xB3AFCC75#32
  | 4 => 0x33AFEE43#32
  | 5 => 0xB3B01DA5#32
  | 6 => 0x33B05AA9#32
  | 7 => 0xB3B0A563#32
  | 8 => 0x33B0FDEA#32
  | 9 => 0xB3B16459#32
  | 10 => 0x33B1D8CF#32
  | 11 => 0xB3B25B72#32
  | 12 => 0x33B2EC6A#32
  | 13 => 0xB3B38BE5#32
  | 14 => 0x33B43A15#32
  | 15 => 0xB3B4F732#32
  | 16 => 0x33B5C377#32
  | 17 => 0xB3B69F28#32
  | 18 => 0x33B78A8A#32
  | 19 => 0xB3B885EC#32
  | 20 => 0x33B9919E#32
  | 21 => 0xB3BAADFB#32
  | 22 => 0x33BBDB61#32
  | 23 => 0xB3BD1A36#32
  | 24 => 0x33BE6AE7#32
  | 25 => 0xB3BFCDE6#32
  | 26 => 0x33C143B0#32
  | 27 => 0xB3C2CCC7#32
  | 28 => 0x33C469B8#32
  | 29 => 0xB3C61B15#32
  | 30 => 0x33C7E17D#32
  | 31 => 0xB3C9BD97#32
  | 32 => 0x33CBB015#32
  | 33 => 0xB3CDB9B1#32
  | 34 => 0x33CFDB34#32
  | 35 => 0xB3D21572#32
  | 36 => 0x33D4694B#32
  | 37 => 0xB3D6D7AE#32
  | 38 => 0x33D96196#32
  | 39 => 0xB3DC0810#32
  | 40 => 0x33DECC38#32
  | 41 => 0xB3E1AF3D#32
  | 42 => 0x33E4B25D#32
  | 43 => 0xB3E7D6EF#32
  | 44 => 0x33EB1E5A#32
  | 45 => 0xB3EE8A1F#32
  | 46 => 0x33F21BD6#32
  | 47 => 0xB3F5D532#32
  | 48 => 0x33F9B800#32
  | 49 => 0xB3FDC62E#32
  | 50 => 0x340100E3#32
  | 51 => 0xB403367C#32
  | 52 => 0x3405850C#32
  | 53 => 0xB407EDD1#32
  | 54 => 0x340A721F#32
  | 55 => 0xB40D1360#32
  | 56 => 0x340FD31A#32
  | 57 => 0xB412B2ED#32
  | 58 => 0x3415B495#32
  | 59 => 0xB418D9F0#32
  | 60 => 0x341C2500#32
  | 61 => 0xB41F97EA#32
  | 62 => 0x342334FF#32
  | 63 => 0xB426FEBD#32
  | 64 => 0x342AF7D2#32
  | 65 => 0xB42F2322#32
  | 66 => 0x343383CC#32
  | 67 => 0xB4381D32#32
  | 68 => 0x343CF2FA#32
  | 69 => 0xB4420919#32
  | 70 => 0x344763DA#32
  | 71 => 0xB44D07E6#32
  | 72 => 0x3452FA51#32
  | 73 => 0xB45940A1#32
  | 74 => 0x345FE0DA#32
  | 75 => 0xB466E193#32
  | 76 => 0x346E49FF#32
  | 77 => 0xB4762200#32
  | 78 => 0x347E723F#32
  | 79 => 0xB483A221#32
  | 80 => 0x34885143#32
  | 81 => 0xB48D4C4D#32
  | 82 => 0x349299A5#32
  | 83 => 0xB4984061#32
  | 84 => 0x349E485F#32
  | 85 => 0xB4A4BA5F#32
  | 86 => 0x34ABA023#32
  | 87 => 0xB4B30492#32
  | 88 => 0x34BAF3E5#32
  | 89 => 0xB4C37BD6#32
  | 90 => 0x34CCABDA#32
  | 91 => 0xB4D69568#32
  | 92 => 0x34E14C49#32
  | 93 => 0xB4ECE6F7#32
  | 94 => 0x34F97F13#32
  | 95 => 0xB50398F7#32
  | 96 => 0x350B1097#32
  | 97 => 0xB51339CD#32
  | 98 => 0x351C2B08#32
  | 99 => 0xB525FE56#32
  | 100 => 0x3530D21D#32
  | 101 => 0xB53CCA00#32
  | 102 => 0x354A0FF9#32
  | 103 => 0xB558D5BB#32
  | 104 => 0x35695670#32
  | 105 => 0xB57BD8F1#32
  | 106 => 0x3588594C#32
  | 107 => 0xB5942572#32
  | 108 => 0x35A19018#32
  | 109 => 0xB5B0E6EF#32
  | 110 => 0x35C28A3B#32
  | 111 => 0xB5D6F23A#32
  | 112 => 0x35EEB658#32
  | 113 => 0xB6054B76#32
  | 114 => 0x3615C529#32
  | 115 => 0xB6296767#32
  | 116 => 0x3641014B#32
  | 117 => 0xB65DA20C#32
  | 118 => 0x368056F2#32
  | 119 => 0xB695FBC4#32
  | 120 => 0x36B0ED61#32
  | 121 => 0xB6D29E9B#32
  | 122 => 0x36FFBDB2#32
  | 123 => 0xB692EE32#32
  | 124 => 0x391EBB1A#32
  | 125 => 0x3B12D0DF#32
  | 126 => 0x3CA0086D#32
  | 127 => 0x3DBAD58B#32
  | _ => 0#32

noncomputable abbrev lit0t0_259 (i : Nat) : BitVec 32 := match i % 128 with
  | 0 => 0x3E6BB748#32
  | 1 => 0x3EA069FE#32
  | 2 => 0x3E6BB748#32
  | 3 => 0x3DBAD58B#32
  | 4 => 0x3CA0086D#32
  | 5 => 0x3B12D0DF#32
  | 6 => 0x391EBB1A#32
  | 7 => 0xB692EE32#32
  | 8 => 0x36FFBDB2#32
  | 9 => 0xB6D29E9B#32
  | 10 => 0x36B0ED61#32
  | 11 => 0xB695FBC4#32
  | 12 => 0x368056F2#32
  | 13 => 0xB65DA20C#32
  | 14 => 0x3641014B#32
  | 15 => 0xB6296767#32
  | 16 => 0x3615C529#32
  | 17 => 0xB6054B76#32
  | 18 => 0x35EEB658#32
  | 19 => 0xB5D6F23A#32
  | 20 => 0x35C28A3B#32
  | 21 => 0xB5B0E6EF#32
  | 22 => 0x35A19018#32
  | 23 => 0xB5942572#32
  | 24 => 0x3588594C#32
  | 25 => 0xB57BD8F1#32
  | 26 => 0x35695670#32
  | 27 => 0xB558D5BB#32
  | 28 => 0x354A0FF9#32
  | 29 => 0xB53CCA00#32
  | 30 => 0x3530D21D#32
  | 31 => 0xB525FE56#32
  | 32 => 0x351C2B08#32
  | 33 => 0xB51339CD#32
  | 34 => 0x350B1097#32
  | 35 => 0xB50398F7#32
  | 36 => 0x34F97F13#32
  | 37 => 0xB4ECE6F7#32
  | 38 => 0x34E14C49#32
  | 39 => 0xB4D69568#32
  | 40 => 0x34CCABDA#32
  | 41 => 0xB4C37BD6#32
  | 42 => 0x34BAF3E5#32
  | 43 => 0xB4B30492#32
  | 44 => 0x34ABA023#32
  | 45 => 0xB4A4BA5F#32
  | 46 => 0x349E485F#32
  | 47 => 0xB4984061#32
  | 48 => 0x349299A5#32
  | 49 => 0xB48D4C4D#32
  | 50 => 0x34885143#32
  | 51 => 0xB483A221#32
  | 52 => 0x347E723F#32
  | 53 => 0xB4762200#32
  | 54 => 0x346E49FF#32
  | 55 => 0xB466E193#32
  | 56 => 0x345FE0DA#32
  | 57 => 0xB45940A1#32
  | 58 => 0x3452FA51#32
  | 59 => 0xB44D07E6#32
  | 60 => 0x344763DA#32
  | 61 => 0xB4420919#32
  | 62 => 0x343CF2FA#32
  | 63 => 0xB4381D32#32
  | 64 => 0x343383CC#32
  | 65 => 0xB42F2322#32
  | 66 => 0x342AF7D2#32
  | 67 => 0xB426FEBD#32
  | 68 => 0x342334FF#32
  | 69 => 0xB41F97EA#32
  | 70 => 0x341C2500#32
  | 71 => 0xB418D9F0#32
  | 72 => 0x3415B495#32
  | 73 => 0xB412B2ED#32
  | 74 => 0x340FD31A#32
  | 75 => 0xB40D1360#32
  | 76 => 0x340A721F#32
  | 77 => 0xB407EDD1#32
  | 78 => 0x3405850C#32
  | 79 => 0xB403367C#32
  | 80 => 0x340100E3#32
  | 81 => 0xB3FDC62E#32
  | 82 => 0x33F9B800#32
  | 83 => 0xB3F5D532#32
  | 84 => 0x33F21BD6#32
  | 85 => 0xB3EE8A1F#32
  | 86 => 0x33EB1E5A#32
  | 87 => 0xB3E7D6EF#32
  | 88 => 0x33E4B25D#32
  | 89 => 0xB3E1AF3D#32
  | 90 => 0x33DECC38#32
  | 91 => 0xB3DC0810#32
  | 92 => 0x33D96196#32
  | 93 => 0xB3D6D7AE#32
  | 94 => 0x33D4694B#32
  | 95 => 0xB3D21572#32
  | 96 => 0x33CFDB34#32
  | 97 => 0xB3CDB9B1#32
  | 98 => 0x33CBB015#32
  | 99 => 0xB3C9BD97#32
  | 100 => 0x33C7E17D#32
  | 101 => 0xB3C61B15#32
  | 102 => 0x33C469B8#32
  | 103 => 0xB3C2CCC7#32
  | 104 => 0x33C143B0#32
  | 105 => 0xB3BFCDE6#32
  | 106 => 0x33BE6AE7#32
  | 107 => 0xB3BD1A36#32
  | 108 => 0x33BBDB61#32
  | 109 => 0xB3BAADFB#32
  | 110 => 0x33B9919E#32
  | 111 => 0xB3B885EC#32
  | 112 => 0x33B78A8A#32
  | 113 => 0xB3B69F28#32
  | 114 => 0x33B5C377#32
  | 115 => 0xB3B4F732#32
  | 116 => 0x33B43A15#32
  | 117 => 0xB3B38BE5#32
  | 118 => 0x33B2EC6A#32
  | 119 => 0xB3B25B72#32
  | 120 => 0x33B1D8CF#32
  | 121 => 0xB3B16459#32
  | 122 => 0x33B0FDEA#32
  | 123 => 0xB3B0A563#32
  | 124 => 0x33B05AA9#32
  | 125 => 0xB3B01DA5#32
  | 126 => 0x33AFEE43#32
  | 127 => 0xB3AFCC75#32
  | _ => 0#32

noncomputable abbrev lit0t0_260 (i : Nat) : BitVec 32 := match i % 128 with
  | 0 => 0xB3AFCC75#32
  | 1 => 0x33AFB831#32
  | 2 => 0xB3AFB170#32
  | 3 => 0x33AFB831#32
  | 4 => 0xB3AFCC75#32
  | 5 => 0x33AFEE43#32
  | 6 => 0xB3B01DA5#32
  | 7 => 0x33B05AA9#32
  | 8 => 0xB3B0A563#32
  | 9 => 0x33B0FDEA#32
  | 10 => 0xB3B16459#32
  | 11 => 0x33B1D8CF#32
  | 12 => 0xB3B25B72#32
  | 13 => 0x33B2EC6A#32
  | 14 => 0xB3B38BE5#32
  | 15 => 0x33B43A15#32
  | 16 => 0xB3B4F732#32
  | 17 => 0x33B5C377#32
  | 18 => 0xB3B69F28#32
  | 19 => 0x33B78A8A#32
  | 20 => 0xB3B885EC#32
  | 21 => 0x33B9919E#32
  | 22 => 0xB3BAADFB#32
  | 23 => 0x33BBDB61#32
  | 24 => 0xB3BD1A36#32
  | 25 => 0x33BE6AE7#32
  | 26 => 0xB3BFCDE6#32
  | 27 => 0x33C143B0#32
  | 28 => 0xB3C2CCC7#32
  | 29 => 0x33C469B8#32
  | 30 => 0xB3C61B15#32
  | 31 => 0x33C7E17D#32
  | 32 => 0xB3C9BD97#32
  | 33 => 0x33CBB015#32
  | 34 => 0xB3CDB9B1#32
  | 35 => 0x33CFDB34#32
  | 36 => 0xB3D21572#32
  | 37 => 0x33D4694B#32
  | 38 => 0xB3D6D7AE#32
  | 39 => 0x33D96196#32
  | 40 => 0xB3DC0810#32
  | 41 => 0x33DECC38#32
  | 42 => 0xB3E1AF3D#32
  | 43 => 0x33E4B25D#32
  | 44 => 0xB3E7D6EF#32
  | 45 => 0x33EB1E5A#32
  | 46 => 0xB3EE8A1F#32
  | 47 => 0x33F21BD6#32
  | 48 => 0xB3F5D532#32
  | 49 => 0x33F9B800#32
  | 50 => 0xB3FDC62E#32
  | 51 => 0x340100E3#32
  | 52 => 0xB403367C#32
  | 53 => 0x3405850C#32
  | 54 => 0xB407EDD1#32
  | 55 => 0x340A721F#32
  | 56 => 0xB40D1360#32
  | 57 => 0x340FD31A#32
  | 58 => 0xB412B2ED#32
  | 59 => 0x3415B495#32
  | 60 => 0xB418D9F0#32
  | 61 => 0x341C2500#32
  | 62 => 0xB41F97EA#32
  | 63 => 0x342334FF#32
  | 64 => 0xB426FEBD#32
  | 65 => 0x342AF7D2#32
  | 66 => 0xB42F2322#32
  | 67 => 0x343383CC#32
  | 68 => 0xB4381D32#32
  | 69 => 0x343CF2FA#32
  | 70 => 0xB4420919#32
  | 71 => 0x344763DA#32
  | 72 => 0xB44D07E6#32
  | 73 => 0x3452FA51#32
  | 74 => 0xB45940A1#32
  | 75 => 0x345FE0DA#32
  | 76 => 0xB466E193#32
  | 77 => 0x346E49FF#32
  | 78 => 0xB4762200#32
  | 79 => 0x347E723F#32
  | 80 => 0xB483A221#32
  | 81 => 0x34885142#32
  | 82 => 0xB48D4C4D#32
  | 83 => 0x349299A5#32
  | 84 => 0xB4984061#32
  | 85 => 0x349E485F#32
  | 86 => 0xB4A4BA5F#32
  | 87 => 0x34ABA023#32
  | 88 => 0xB4B30492#32
  | 89 => 0x34BAF3E5#32
  | 90 => 0xB4C37BD6#32
  | 91 => 0x34CCABDA#32
  | 92 => 0xB4D69568#32
  | 93 => 0x34E14C49#32
  | 94 => 0xB4ECE6F7#32
  | 95 => 0x34F97F13#32
  | 96 => 0xB50398F7#32
  | 97 => 0x350B1097#32
  | 98 => 0xB51339CD#32
  | 99 => 0x351C2B08#32
  | 100 => 0xB525FE56#32
  | 101 => 0x3530D21D#32
  | 102 => 0xB53CCA00#32
  | 103 => 0x354A0FF9#32
  | 104 => 0xB558D5BB#32
  | 105 => 0x35695670#32
  | 106 => 0xB57BD8F1#32
  | 107 => 0x3588594C#32
  | 108 => 0xB5942572#32
  | 109 => 0x35A19018#32
  | 110 => 0xB5B0E6EF#32
  | 111 => 0x35C28A3B#32
  | 112 => 0xB5D6F23A#32
  | 113 => 0x35EEB658#32
  | 114 => 0xB6054B76#32
  | 115 => 0x3615C529#32
  | 116 => 0xB6296767#32
  | 117 => 0x3641014B#32
  | 118 => 0xB65DA20C#32
  | 119 => 0x368056F2#32
  | 120 => 0xB695FBC4#32
  | 121 => 0x36B0ED61#32
  | 122 => 0xB6D29E9B#32
  | 123 => 0x36FFBDB2#32
  | 124 => 0xB692EE32#32
  | 125 => 0x391EBB1A#32
  | 126 => 0x3B12D0DF#32
  | 127 => 0x3CA0086D#32
  | _ => 0#32

noncomputable abbrev lit0t0_261 (i : Nat) : BitVec 32 := match i % 128 with
  | 0 => 0x3DBAD58B#32
  | 1 => 0x3E6BB748#32
  | 2 => 0x3EA069FE#32
  | 3 => 0x3E6BB748#32
  | 4 => 0x3DBAD58B#32
  | 5 => 0x3CA0086D#32
  | 6 => 0x3B12D0DF#32
  | 7 => 0x391EBB1A#32
  | 8 => 0xB692EE32#32
  | 9 => 0x36FFBDB2#32
  | 10 => 0xB6D29E9B#32
  | 11 => 0x36B0ED61#32
  | 12 => 0xB695FBC4#32
  | 13 => 0x368056F2#32
  | 14 => 0xB65DA20C#32
  | 15 => 0x3641014B#32
  | 16 => 0xB6296767#32
  | 17 => 0x3615C529#32
  | 18 => 0xB6054B76#32
  | 19 => 0x35EEB658#32
  | 20 => 0xB5D6F23A#32
  | 21 => 0x35C28A3B#32
  | 22 => 0xB5B0E6EF#32
  | 23 => 0x35A19018#32
  | 24 => 0xB5942572#32
  | 25 => 0x3588594C#32
  | 26 => 0xB57BD8F1#32
  | 27 => 0x35695670#32
  | 28 => 0xB558D5BB#32
  | 29 => 0x354A0FF9#32
  | 30 => 0xB53CCA00#32
  | 31 => 0x3530D21D#32
  | 32 => 0xB525FE56#32
  | 33 => 0x351C2B08#32
  | 34 => 0xB51339CD#32
  | 35 => 0x350B1097#32
  | 36 => 0xB50398F7#32
  | 37 => 0x34F97F13#32
  | 38 => 0xB4ECE6F7#32
  | 39 => 0x34E14C49#32
  | 40 => 0xB4D69568#32
  | 41 => 0x34CCABDA#32
  | 42 => 0xB4C37BD6#32
  | 43 => 0x34BAF3E5#32
  | 44 => 0xB4B30492#32
  | 45 => 0x34ABA023#32
  | 46 => 0xB4A4BA5F#32
  | 47 => 0x349E485F#32
  | 48 => 0xB4984061#32
  | 49 => 0x349299A5#32
  | 50 => 0xB48D4C4D#32
  | 51 => 0x34885143#32
  | 52 => 0xB483A221#32
  | 53 => 0x347E723F#32
  | 54 => 0xB4762200#32
  | 55 => 0x346E49FF#32
  | 56 => 0xB466E193#32
  | 57 => 0x345FE0DA#32
  | 58 => 0xB45940A1#32
  | 59 => 0x3452FA51#32
  | 60 => 0xB44D07E6#32
  | 61 => 0x344763DA#32
  | 62 => 0xB4420919#32
  | 63 => 0x343CF2FA#32
  | 64 => 0xB4381D32#32
  | 65 => 0x343383CC#32
  | 66 => 0xB42F2322#32
  | 67 => 0x342AF7D2#32
  | 68 => 0xB426FEBD#32
  | 69 => 0x342334FF#32
  | 70 => 0xB41F97EA#32
  | 71 => 0x341C2500#32
  | 72 => 0xB418D9F0#32
  | 73 => 0x3415B495#32
  | 74 => 0xB412B2ED#32
  | 75 => 0x340FD31A#32
  | 76 => 0xB40D1360#32
  | 77 => 0x340A721F#32
  | 78 => 0xB407EDD1#32
  | 79 => 0x3405850C#32
  | 80 => 0xB403367C#32
  | 81 => 0x340100E3#32
  | 82 => 0xB3FDC62E#32
  | 83 => 0x33F9B800#32
  | 84 => 0xB3F5D532#32
  | 85 => 0x33F21BD6#32
  | 86 => 0xB3EE8A1F#32
  | 87 => 0x33EB1E5A#32
  | 88 => 0xB3E7D6EF#32
  | 89 => 0x33E4B25D#32
  | 90 => 0xB3E1AF3D#32
  | 91 => 0x33DECC38#32
  | 92 => 0xB3DC0810#32
  | 93 => 0x33D96196#32
  | 94 => 0xB3D6D7AE#32
  | 95 => 0x33D4694B#32
  | 96 => 0xB3D21572#32
  | 97 => 0x33CFDB34#32
  | 98 => 0xB3CDB9B1#32
  | 99 => 0x33CBB015#32
  | 100 => 0xB3C9BD97#32
  | 101 => 0x33C7E17D#32
  | 102 => 0xB3C61B15#32
  | 103 => 0x33C469B8#32
  | 104 => 0xB3C2CCC7#32
  | 105 => 0x33C143B0#32
  | 106 => 0xB3BFCDE6#32
  | 107 => 0x33BE6AE7#32
  | 108 => 0xB3BD1A36#32
  | 109 => 0x33BBDB61#32
  | 110 => 0xB3BAADFB#32
  | 111 => 0x33B9919E#32
  | 112 => 0xB3B885EC#32
  | 113 => 0x33B78A8A#32
  | 114 => 0xB3B69F28#32
  | 115 => 0x33B5C377#32
  | 116 => 0xB3B4F732#32
  | 117 => 0x33B43A15#32
  | 118 => 0xB3B38BE5#32
  | 119 => 0x33B2EC6A#32
  | 120 => 0xB3B25B72#32
  | 121 => 0x33B1D8CF#32
  | 122 => 0xB3B16459#32
  | 123 => 0x33B0FDEA#32
  | 124 => 0xB3B0A563#32
  | 125 => 0x33B05AA9#32
  | 126 => 0xB3B01DA5#32
  | 127 => 0x33AFEE43#32
  | _ => 0#32

noncomputable abbrev lit0t0_262 (i : Nat) : BitVec 32 := match i % 128 with
  | 0 => 0x33AFEE43#32
  | 1 => 0xB3AFCC75#32
  | 2 => 0x33AFB831#32
  | 3 => 0xB3AFB170#32
  | 4 => 0x33AFB831#32
  | 5 => 0xB3AFCC75#32
  | 6 => 0x33AFEE43#32
  | 7 => 0xB3B01DA5#32
  | 8 => 0x33B05AA9#32
  | 9 => 0xB3B0A563#32
  | 10 => 0x33B0FDEA#32
  | 11 => 0xB3B16459#32
  | 12 => 0x33B1D8CF#32
  | 13 => 0xB3B25B72#32
  | 14 => 0x33B2EC6A#32
  | 15 => 0xB3B38BE5#32
  | 16 => 0x33B43A15#32
  | 17 => 0xB3B4F732#32
  | 18 => 0x33B5C377#32
  | 19 => 0xB3B69F28#32
  | 20 => 0x33B78A8A#32
  | 21 => 0xB3B885EC#32
  | 22 => 0x33B9919E#32
  | 23 => 0xB3BAADFB#32
  | 24 => 0x33BBDB61#32
  | 25 => 0xB3BD1A36#32
  | 26 => 0x33BE6AE7#32
  | 27 => 0xB3BFCDE6#32
  | 28 => 0x33C143B0#32
  | 29 => 0xB3C2CCC7#32
  | 30 => 0x33C469B8#32
  | 31 => 0xB3C61B15#32
  | 32 => 0x33C7E17D#32
  | 33 => 0xB3C9BD97#32
  | 34 => 0x33CBB015#32
  | 35 => 0xB3CDB9B1#32
  | 36 => 0x33CFDB34#32
  | 37 => 0xB3D21572#32
  | 38 => 0x33D4694B#32
  | 39 => 0xB3D6D7AE#32
  | 40 => 0x33D96196#32
  | 41 => 0xB3DC0810#32
  | 42 => 0x33DECC38#32
  | 43 => 0xB3E1AF3D#32
  | 44 => 0x33E4B25D#32
  | 45 => 0xB3E7D6EF#32
  | 46 => 0x33EB1E5A#32
  | 47 => 0xB3EE8A1F#32
  | 48 => 0x33F21BD6#32
  | 49 => 0xB3F5D532#32
  | 50 => 0x33F9B800#32
  | 51 => 0xB3FDC62E#32
  | 52 => 0x340100E3#32
  | 53 => 0xB403367C#32
  | 54 => 0x3405850C#32
  | 55 => 0xB407EDD1#32
  | 56 => 0x340A721F#32
  | 57 => 0xB40D1360#32
  | 58 => 0x340FD31A#32
  | 59 => 0xB412B2ED#32
  | 60 => 0x3415B495#32
  | 61 => 0xB418D9F0#32
  | 62 => 0x341C2500#32
  | 63 => 0xB41F97EA#32
  | 64 => 0x342334FF#32
  | 65 => 0xB426FEBD#32
  | 66 => 0x342AF7D2#32
  | 67 => 0xB42F2322#32
  | 68 => 0x343383CC#32
  | 69 => 0xB4381D32#32
  | 70 => 0x343CF2FA#32
  | 71 => 0xB4420919#32
  | 72 => 0x344763DA#32
  | 73 => 0xB44D07E6#32
  | 74 => 0x3452FA51#32
  | 75 => 0xB45940A1#32
  | 76 => 0x345FE0DA#32
  | 77 => 0xB466E193#32
  | 78 => 0x346E49FF#32
  | 79 => 0xB4762200#32
  | 80 => 0x347E723F#32
  | 81 => 0xB483A221#32
  | 82 => 0x34885143#32
  | 83 => 0xB48D4C4D#32
  | 84 => 0x349299A5#32
  | 85 => 0xB4984061#32
  | 86 => 0x349E485F#32
  | 87 => 0xB4A4BA5F#32
  | 88 => 0x34ABA023#32
  | 89 => 0xB4B30492#32
  | 90 => 0x34BAF3E5#32
  | 91 => 0xB4C37BD6#32
  | 92 => 0x34CCABDA#32
  | 93 => 0xB4D69568#32
  | 94 => 0x34E14C49#32
  | 95 => 0xB4ECE6F7#32
  | 96 => 0x34F97F13#32
  | 97 => 0xB50398F7#32
  | 98 => 0x350B1097#32
  | 99 => 0xB51339CD#32
  | 100 => 0x351C2B08#32
  | 101 => 0xB525FE56#32
  | 102 => 0x3530D21D#32
  | 103 => 0xB53CCA00#32
  | 104 => 0x354A0FF9#32
  | 105 => 0xB558D5BB#32
  | 106 => 0x35695670#32
  | 107 => 0xB57BD8F1#32
  | 108 => 0x3588594C#32
  | 109 => 0xB5942572#32
  | 110 => 0x35A19018#32
  | 111 => 0xB5B0E6EF#32
  | 112 => 0x35C28A3B#32
  | 113 => 0xB5D6F23A#32
  | 114 => 0x35EEB658#32
  | 115 => 0xB6054B76#32
  | 116 => 0x3615C529#32
  | 117 => 0xB6296767#32
  | 118 => 0x3641014B#32
  | 119 => 0xB65DA20C#32
  | 120 => 0x368056F2#32
  | 121 => 0xB695FBC4#32
  | 122 => 0x36B0ED61#32
  | 123 => 0xB6D29E9B#32
  | 124 => 0x36FFBDB2#32
  | 125 => 0xB692EE32#32
  | 126 => 0x391EBB1A#32
  | 127 => 0x3B12D0DF#32
  | _ => 0#32

noncomputable abbrev lit0t0_263 (i : Nat) : BitVec 32 := match i % 128 with
  | 0 => 0x3CA0086D#32
  | 1 => 0x3DBAD58B#32
  | 2 => 0x3E6BB748#32
  | 3 => 0x3EA069FE#32
  | 4 => 0x3E6BB748#32
  | 5 => 0x3DBAD58B#32
  | 6 => 0x3CA0086D#32
  | 7 => 0x3B12D0DF#32
  | 8 => 0x391EBB1A#32
  | 9 => 0xB692EE32#32
  | 10 => 0x36FFBDB2#32
  | 11 => 0xB6D29E9B#32
  | 12 => 0x36B0ED61#32
  | 13 => 0xB695FBC4#32
  | 14 => 0x368056F2#32
  | 15 => 0xB65DA20C#32
  | 16 => 0x3641014B#32
  | 17 => 0xB6296767#32
  | 18 => 0x3615C529#32
  | 19 => 0xB6054B76#32
  | 20 => 0x35EEB658#32
  | 21 => 0xB5D6F23A#32
  | 22 => 0x35C28A3B#32
  | 23 => 0xB5B0E6EF#32
  | 24 => 0x35A19018#32
  | 25 => 0xB5942572#32
  | 26 => 0x3588594C#32
  | 27 => 0xB57BD8F1#32
  | 28 => 0x35695670#32
  | 29 => 0xB558D5BB#32
  | 30 => 0x354A0FF9#32
  | 31 => 0xB53CCA00#32
  | 32 => 0x3530D21D#32
  | 33 => 0xB525FE56#32
  | 34 => 0x351C2B08#32
  | 35 => 0xB51339CD#32
  | 36 => 0x350B1097#32
  | 37 => 0xB50398F7#32
  | 38 => 0x34F97F13#32
  | 39 => 0xB4ECE6F7#32
  | 40 => 0x34E14C49#32
  | 41 => 0xB4D69568#32
  | 42 => 0x34CCABDA#32
  | 43 => 0xB4C37BD6#32
  | 44 => 0x34BAF3E5#32
  | 45 => 0xB4B30492#32
  | 46 => 0x34ABA023#32
  | 47 => 0xB4A4BA5F#32
  | 48 => 0x349E485F#32
  | 49 => 0xB4984061#32
  | 50 => 0x349299A5#32
  | 51 => 0xB48D4C4D#32
  | 52 => 0x34885143#32
  | 53 => 0xB483A221#32
  | 54 => 0x347E723F#32
  | 55 => 0xB4762200#32
  | 56 => 0x346E49FF#32
  | 57 => 0xB466E193#32
  | 58 => 0x345FE0DA#32
  | 59 => 0xB45940A1#32
  | 60 => 0x3452FA51#32
  | 61 => 0xB44D07E6#32
  | 62 => 0x344763DA#32
  | 63 => 0xB4420919#32
  | 64 => 0x343CF2FA#32
  | 65 => 0xB4381D32#32
  | 66 => 0x343383CC#32
  | 67 => 0xB42F2322#32
  | 68 => 0x342AF7D2#32
  | 69 => 0xB426FEBD#32
  | 70 => 0x342334FF#32
  | 71 => 0xB41F97EA#32
  | 72 => 0x341C2500#32
  | 73 => 0xB418D9F0#32
  | 74 => 0x3415B495#32
  | 75 => 0xB412B2ED#32
  | 76 => 0x340FD31A#32
  | 77 => 0xB40D1360#32
  | 78 => 0x340A721F#32
  | 79 => 0xB407EDD1#32
  | 80 => 0x3405850C#32
  | 81 => 0xB403367C#32
  | 82 => 0x340100E3#32
  | 83 => 0xB3FDC62E#32
  | 84 => 0x33F9B800#32
  | 85 => 0xB3F5D532#32
  | 86 => 0x33F21BD6#32
  | 87 => 0xB3EE8A1F#32
  | 88 => 0x33EB1E5A#32
  | 89 => 0xB3E7D6EF#32
  | 90 => 0x33E4B25D#32
  | 91 => 0xB3E1AF3D#32
  | 92 => 0x33DECC38#32
  | 93 => 0xB3DC0810#32
  | 94 => 0x33D96196#32
  | 95 => 0xB3D6D7AE#32
  | 96 => 0x33D4694B#32
  | 97 => 0xB3D21572#32
  | 98 => 0x33CFDB34#32
  | 99 => 0xB3CDB9B1#32
  | 100 => 0x33CBB015#32
  | 101 => 0xB3C9BD97#32
  | 102 => 0x33C7E17D#32
  | 103 => 0xB3C61B15#32
  | 104 => 0x33C469B8#32
  | 105 => 0xB3C2CCC7#32
  | 106 => 0x33C143B0#32
  | 107 => 0xB3BFCDE6#32
  | 108 => 0x33BE6AE7#32
  | 109 => 0xB3BD1A36#32
  | 110 => 0x33BBDB61#32
  | 111 => 0xB3BAADFB#32
  | 112 => 0x33B9919E#32
  | 113 => 0xB3B885EC#32
  | 114 => 0x33B78A8A#32
  | 115 => 0xB3B69F28#32
  | 116 => 0x33B5C377#32
  | 117 => 0xB3B4F732#32
  | 118 => 0x33B43A15#32
  | 119 => 0xB3B38BE5#32
  | 120 => 0x33B2EC6A#32
  | 121 => 0xB3B25B72#32
  | 122 => 0x33B1D8CF#32
  | 123 => 0xB3B16459#32
  | 124 => 0x33B0FDEA#32
  | 125 => 0xB3B0A563#32
  | 126 => 0x33B05AA9#32
  | 127 => 0xB3B01DA5#32
  | _ => 0#32

noncomputable abbrev lit0t0_264 (i : Nat) : BitVec 32 := match i % 128 with
  | 0 => 0xB3B01DA5#32
  | 1 => 0x33AFEE43#32
  | 2 => 0xB3AFCC75#32
  | 3 => 0x33AFB831#32
  | 4 => 0xB3AFB170#32
  | 5 => 0x33AFB831#32
  | 6 => 0xB3AFCC75#32
  | 7 => 0x33AFEE43#32
  | 8 => 0xB3B01DA5#32
  | 9 => 0x33B05AA9#32
  | 10 => 0xB3B0A563#32
  | 11 => 0x33B0FDEA#32
  | 12 => 0xB3B16459#32
  | 13 => 0x33B1D8CF#32
  | 14 => 0xB3B25B72#32
  | 15 => 0x33B2EC6A#32
  | 16 => 0xB3B38BE5#32
  | 17 => 0x33B43A15#32
  | 18 => 0xB3B4F732#32
  | 19 => 0x33B5C377#32
  | 20 => 0xB3B69F28#32
  | 21 => 0x33B78A8A#32
  | 22 => 0xB3B885EC#32
  | 23 => 0x33B9919E#32
  | 24 => 0xB3BAADFB#32
  | 25 => 0x33BBDB61#32
  | 26 => 0xB3BD1A36#32
  | 27 => 0x33BE6AE7#32
  | 28 => 0xB3BFCDE6#32
  | 29 => 0x33C143B0#32
  | 30 => 0xB3C2CCC7#32
  | 31 => 0x33C469B8#32
  | 32 => 0xB3C61B15#32
  | 33 => 0x33C7E17D#32
  | 34 => 0xB3C9BD97#32
  | 35 => 0x33CBB015#32
  | 36 => 0xB3CDB9B1#32
  | 37 => 0x33CFDB34#32
  | 38 => 0xB3D21572#32
  | 39 => 0x33D4694B#32
  | 40 => 0xB3D6D7AE#32
  | 41 => 0x33D96196#32
  | 42 => 0xB3DC0810#32
  | 43 => 0x33DECC38#32
  | 44 => 0xB3E1AF3D#32
  | 45 => 0x33E4B25D#32
  | 46 => 0xB3E7D6EF#32
  | 47 => 0x33EB1E5A#32
  | 48 => 0xB3EE8A1F#32
  | 49 => 0x33F21BD6#32
  | 50 => 0xB3F5D532#32
  | 51 => 0x33F9B800#32
  | 52 => 0xB3FDC62E#32
  | 53 => 0x340100E3#32
  | 54 => 0xB403367C#32
  | 55 => 0x3405850C#32
  | 56 => 0xB407EDD1#32
  | 57 => 0x340A721F#32
  | 58 => 0xB40D1360#32
  | 59 => 0x340FD31A#32
  | 60 => 0xB412B2ED#32
  | 61 => 0x3415B495#32
  | 62 => 0xB418D9F0#32
  | 63 => 0x341C2500#32
  | 64 => 0xB41F97EA#32
  | 65 => 0x342334FF#32
  | 66 => 0xB426FEBD#32
  | 67 => 0x342AF7D2#32
  | 68 => 0xB42F2322#32
  | 69 => 0x343383CC#32
  | 70 => 0xB4381D32#32
  | 71 => 0x343CF2FA#32
  | 72 => 0xB4420919#32
  | 73 => 0x344763DA#32
  | 74 => 0xB44D07E6#32
  | 75 => 0x3452FA51#32
  | 76 => 0xB45940A1#32
  | 77 => 0x345FE0DA#32
  | 78 => 0xB466E193#32
  | 79 => 0x346E49FF#32
  | 80 => 0xB4762200#32
  | 81 => 0x347E723F#32
  | 82 => 0xB483A221#32
  | 83 => 0x34885142#32
  | 84 => 0xB48D4C4D#32
  | 85 => 0x349299A5#32
  | 86 => 0xB4984061#32
  | 87 => 0x349E485F#32
  | 88 => 0xB4A4BA5F#32
  | 89 => 0x34ABA023#32
  | 90 => 0xB4B30492#32
  | 91 => 0x34BAF3E5#32
  | 92 => 0xB4C37BD6#32
  | 93 => 0x34CCABDA#32
  | 94 => 0xB4D69568#32
  | 95 => 0x34E14C49#32
  | 96 => 0xB4ECE6F7#32
  | 97 => 0x34F97F13#32
  | 98 => 0xB50398F7#32
  | 99 => 0x350B1097#32
  | 100 => 0xB51339CD#32
  | 101 => 0x351C2B08#32
  | 102 => 0xB525FE56#32
  | 103 => 0x3530D21D#32
  | 104 => 0xB53CCA00#32
  | 105 => 0x354A0FF9#32
  | 106 => 0xB558D5BB#32
  | 107 => 0x35695670#32
  | 108 => 0xB57BD8F1#32
  | 109 => 0x3588594C#32
  | 110 => 0xB5942572#32
  | 111 => 0x35A19018#32
  | 112 => 0xB5B0E6EF#32
  | 113 => 0x35C28A3B#32
  | 114 => 0xB5D6F23A#32
  | 115 => 0x35EEB658#32
  | 116 => 0xB6054B76#32
  | 117 => 0x3615C529#32
  | 118 => 0xB6296767#32
  | 119 => 0x3641014B#32
  | 120 => 0xB65DA20C#32
  | 121 => 0x368056F2#32
  | 122 => 0xB695FBC4#32
  | 123 => 0x36B0ED61#32
  | 124 => 0xB6D29E9B#32
  | 125 => 0x36FFBDB2#32
  | 126 => 0xB692EE32#32
  | 127 => 0x391EBB1A#32
  | _ => 0#32

noncomputable abbrev lit0t0_265 (i : Nat) : BitVec 32 := match i % 128 with
  | 0 => 0x3B12D0DF#32
  | 1 => 0x3CA0086D#32
  | 2 => 0x3DBAD58B#32
  | 3 => 0x3E6BB748#32
  | 4 => 0x3EA069FE#32
  | 5 => 0x3E6BB748#32
  | 6 => 0x3DBAD58B#32
  | 7 => 0x3CA0086D#32
  | 8 => 0x3B12D0DF#32
  | 9 => 0x391EBB1A#32
  | 10 => 0xB692EE32#32
  | 11 => 0x36FFBDB2#32
  | 12 => 0xB6D29E9B#32
  | 13 => 0x36B0ED61#32
  | 14 => 0xB695FBC4#32
  | 15 => 0x368056F2#32
  | 16 => 0xB65DA20C#32
  | 17 => 0x3641014B#32
  | 18 => 0xB6296767#32
  | 19 => 0x3615C529#32
  | 20 => 0xB6054B76#32
  | 21 => 0x35EEB658#32
  | 22 => 0xB5D6F23A#32
  | 23 => 0x35C28A3B#32
  | 24 => 0xB5B0E6EF#32
  | 25 => 0x35A19018#32
  | 26 => 0xB5942572#32
  | 27 => 0x3588594C#32
  | 28 => 0xB57BD8F1#32
  | 29 => 0x35695670#32
  | 30 => 0xB558D5BB#32
  | 31 => 0x354A0FF9#32
  | 32 => 0xB53CCA00#32
  | 33 => 0x3530D21D#32
  | 34 => 0xB525FE56#32
  | 35 => 0x351C2B08#32
  | 36 => 0xB51339CD#32
  | 37 => 0x350B1097#32
  | 38 => 0xB50398F7#32
  | 39 => 0x34F97F13#32
  | 40 => 0xB4ECE6F7#32
  | 41 => 0x34E14C49#32
  | 42 => 0xB4D69568#32
  | 43 => 0x34CCABDA#32
  | 44 => 0xB4C37BD6#32
  | 45 => 0x34BAF3E5#32
  | 46 => 0xB4B30492#32
  | 47 => 0x34ABA023#32
  | 48 => 0xB4A4BA5F#32
  | 49 => 0x349E485F#32
  | 50 => 0xB4984061#32
  | 51 => 0x349299A5#32
  | 52 => 0xB48D4C4D#32
  | 53 => 0x34885143#32
  | 54 => 0xB483A221#32
  | 55 => 0x347E723F#32
  | 56 => 0xB4762200#32
  | 57 => 0x346E49FF#32
  | 58 => 0xB466E193#32
  | 59 => 0x345FE0DA#32
  | 60 => 0xB45940A1#32
  | 61 => 0x3452FA51#32
  | 62 => 0xB44D07E6#32
  | 63 => 0x344763DA#32
  | 64 => 0xB4420919#32
  | 65 => 0x343CF2FA#32
  | 66 => 0xB4381D32#32
  | 67 => 0x343383CC#32
  | 68 => 0xB42F2322#32
  | 69 => 0x342AF7D2#32
  | 70 => 0xB426FEBD#32
  | 71 => 0x342334FF#32
  | 72 => 0xB41F97EA#32
  | 73 => 0x341C2500#32
  | 74 => 0xB418D9F0#32
  | 75 => 0x3415B495#32
  | 76 => 0xB412B2ED#32
  | 77 => 0x340FD31A#32
  | 78 => 0xB40D1360#32
  | 79 => 0x340A721F#32
  | 80 => 0xB407EDD1#32
  | 81 => 0x3405850C#32
  | 82 => 0xB403367C#32
  | 83 => 0x340100E3#32
  | 84 => 0xB3FDC62E#32
  | 85 => 0x33F9B800#32
  | 86 => 0xB3F5D532#32
  | 87 => 0x33F21BD6#32
  | 88 => 0xB3EE8A1F#32
  | 89 => 0x33EB1E5A#32
  | 90 => 0xB3E7D6EF#32
  | 91 => 0x33E4B25D#32
  | 92 => 0xB3E1AF3D#32
  | 93 => 0x33DECC38#32
  | 94 => 0xB3DC0810#32
  | 95 => 0x33D96196#32
  | 96 => 0xB3D6D7AE#32
  | 97 => 0x33D4694B#32
  | 98 => 0xB3D21572#32
  | 99 => 0x33CFDB34#32
  | 100 => 0xB3CDB9B1#32
  | 101 => 0x33CBB015#32
  | 102 => 0xB3C9BD97#32
  | 103 => 0x33C7E17D#32
  | 104 => 0xB3C61B15#32
  | 105 => 0x33C469B8#32
  | 106 => 0xB3C2CCC7#32
  | 107 => 0x33C143B0#32
  | 108 => 0xB3BFCDE6#32
  | 109 => 0x33BE6AE7#32
  | 110 => 0xB3BD1A36#32
  | 111 => 0x33BBDB61#32
  | 112 => 0xB3BAADFB#32
  | 113 => 0x33B9919E#32
  | 114 => 0xB3B885EC#32
  | 115 => 0x33B78A8A#32
  | 116 => 0xB3B69F28#32
  | 117 => 0x33B5C377#32
  | 118 => 0xB3B4F732#32
  | 119 => 0x33B43A15#32
  | 120 => 0xB3B38BE5#32
  | 121 => 0x33B2EC6A#32
  | 122 => 0xB3B25B72#32
  | 123 => 0x33B1D8CF#32
  | 124 => 0xB3B16459#32
  | 125 => 0x33B0FDEA#32
  | 126 => 0xB3B0A563#32
  | 127 => 0x33B05AA9#32
  | _ => 0#32

noncomputable abbrev lit0t0_266 (i : Nat) : BitVec 32 := match i % 128 with
  | 0 => 0x33B05AA9#32
  | 1 => 0xB3B01DA5#32
  | 2 => 0x33AFEE43#32
  | 3 => 0xB3AFCC75#32
  | 4 => 0x33AFB831#32
  | 5 => 0xB3AFB170#32
  | 6 => 0x33AFB831#32
  | 7 => 0xB3AFCC75#32
  | 8 => 0x33AFEE43#32
  | 9 => 0xB3B01DA5#32
  | 10 => 0x33B05AA9#32
  | 11 => 0xB3B0A563#32
  | 12 => 0x33B0FDEA#32
  | 13 => 0xB3B16459#32
  | 14 => 0x33B1D8CF#32
  | 15 => 0xB3B25B72#32
  | 16 => 0x33B2EC6A#32
  | 17 => 0xB3B38BE5#32
  | 18 => 0x33B43A15#32
  | 19 => 0xB3B4F732#32
  | 20 => 0x33B5C377#32
  | 21 => 0xB3B69F28#32
  | 22 => 0x33B78A8A#32
  | 23 => 0xB3B885EC#32
  | 24 => 0x33B9919E#32
  | 25 => 0xB3BAADFB#32
  | 26 => 0x33BBDB61#32
  | 27 => 0xB3BD1A36#32
  | 28 => 0x33BE6AE7#32
  | 29 => 0xB3BFCDE6#32
  | 30 => 0x33C143B0#32
  | 31 => 0xB3C2CCC7#32
  | 32 => 0x33C469B8#32
  | 33 => 0xB3C61B15#32
  | 34 => 0x33C7E17D#32
  | 35 => 0xB3C9BD97#32
  | 36 => 0x33CBB015#32
  | 37 => 0xB3CDB9B1#32
  | 38 => 0x33CFDB34#32
  | 39 => 0xB3D21572#32
  | 40 => 0x33D4694B#32
  | 41 => 0xB3D6D7AE#32
  | 42 => 0x33D96196#32
  | 43 => 0xB3DC0810#32
  | 44 => 0x33DECC38#32
  | 45 => 0xB3E1AF3D#32
  | 46 => 0x33E4B25D#32
  | 47 => 0xB3E7D6EF#32
  | 48 => 0x33EB1E5A#32
  | 49 => 0xB3EE8A1F#32
  | 50 => 0x33F21BD6#32
  | 51 => 0xB3F5D532#32
  | 52 => 0x33F9B800#32
  | 53 => 0xB3FDC62E#32
  | 54 => 0x340100E3#32
  | 55 => 0xB403367C#32
  | 56 => 0x3405850C#32
  | 57 => 0xB407EDD1#32
  | 58 => 0x340A721F#32
  | 59 => 0xB40D1360#32
  | 60 => 0x340FD31A#32
  | 61 => 0xB412B2ED#32
  | 62 => 0x3415B495#32
  | 63 => 0xB418D9F0#32
  | 64 => 0x341C2500#32
  | 65 => 0xB41F97EA#32
  | 66 => 0x342334FF#32
  | 67 => 0xB426FEBD#32
  | 68 => 0x342AF7D2#32
  | 69 => 0xB42F2322#32
  | 70 => 0x343383CC#32
  | 71 => 0xB4381D32#32
  | 72 => 0x343CF2FA#32
  | 73 => 0xB4420919#32
  | 74 => 0x344763DA#32
  | 75 => 0xB44D07E6#32
  | 76 => 0x3452FA51#32
  | 77 => 0xB45940A1#32
  | 78 => 0x345FE0DA#32
  | 79 => 0xB466E193#32
  | 80 => 0x346E49FF#32
  | 81 => 0xB4762200#32
  | 82 => 0x347E723F#32
  | 83 => 0xB483A221#32
  | 84 => 0x34885143#32
  | 85 => 0xB48D4C4D#32
  | 86 => 0x349299A5#32
  | 87 => 0xB4984061#32
  | 88 => 0x349E485F#32
  | 89 => 0xB4A4BA5F#32
  | 90 => 0x34ABA023#32
  | 91 => 0xB4B30492#32
  | 92 => 0x34BAF3E5#32
  | 93 => 0xB4C37BD6#32
  | 94 => 0x34CCABDA#32
  | 95 => 0xB4D69568#32
  | 96 => 0x34E14C49#32
  | 97 => 0xB4ECE6F7#32
  | 98 => 0x34F97F13#32
  | 99 => 0xB50398F7#32
  | 100 => 0x350B1097#32
  | 101 => 0xB51339CD#32
  | 102 => 0x351C2B08#32
  | 103 => 0xB525FE56#32
  | 104 => 0x3530D21D#32
  | 105 => 0xB53CCA00#32
  | 106 => 0x354A0FF9#32
  | 107 => 0xB558D5BB#32
  | 108 => 0x35695670#32
  | 109 => 0xB57BD8F1#32
  | 110 => 0x3588594C#32
  | 111 => 0xB5942572#32
  | 112 => 0x35A19018#32
  | 113 => 0xB5B0E6EF#32
  | 114 => 0x35C28A3B#32
  | 115 => 0xB5D6F23A#32
  | 116 => 0x35EEB658#32
  | 117 => 0xB6054B76#32
  | 118 => 0x3615C529#32
  | 119 => 0xB6296767#32
  | 120 => 0x3641014B#32
  | 121 => 0xB65DA20C#32
  | 122 => 0x368056F2#32
  | 123 => 0xB695FBC4#32
  | 124 => 0x36B0ED61#32
  | 125 => 0xB6D29E9B#32
  | 126 => 0x36FFBDB2#32
  | 127 => 0xB692EE32#32
  | _ => 0#32

noncomputable abbrev lit0t0_267 (i : Nat) : BitVec 32 := match i % 128 with
  | 0 => 0x391EBB1A#32
  | 1 => 0x3B12D0DF#32
  | 2 => 0x3CA0086D#32
  | 3 => 0x3DBAD58B#32
  | 4 => 0x3E6BB748#32
  | 5 => 0x3EA069FE#32
  | 6 => 0x3E6BB748#32
  | 7 => 0x3DBAD58B#32
  | 8 => 0x3CA0086D#32
  | 9 => 0x3B12D0DF#32
  | 10 => 0x391EBB1A#32
  | 11 => 0xB692EE32#32
  | 12 => 0x36FFBDB2#32
  | 13 => 0xB6D29E9B#32
  | 14 => 0x36B0ED61#32
  | 15 => 0xB695FBC4#32
  | 16 => 0x368056F2#32
  | 17 => 0xB65DA20C#32
  | 18 => 0x3641014B#32
  | 19 => 0xB6296767#32
  | 20 => 0x3615C529#32
  | 21 => 0xB6054B76#32
  | 22 => 0x35EEB658#32
  | 23 => 0xB5D6F23A#32
  | 24 => 0x35C28A3B#32
  | 25 => 0xB5B0E6EF#32
  | 26 => 0x35A19018#32
  | 27 => 0xB5942572#32
  | 28 => 0x3588594C#32
  | 29 => 0xB57BD8F1#32
  | 30 => 0x35695670#32
  | 31 => 0xB558D5BB#32
  | 32 => 0x354A0FF9#32
  | 33 => 0xB53CCA00#32
  | 34 => 0x3530D21D#32
  | 35 => 0xB525FE56#32
  | 36 => 0x351C2B08#32
  | 37 => 0xB51339CD#32
  | 38 => 0x350B1097#32
  | 39 => 0xB50398F7#32
  | 40 => 0x34F97F13#32
  | 41 => 0xB4ECE6F7#32
  | 42 => 0x34E14C49#32
  | 43 => 0xB4D69568#32
  | 44 => 0x34CCABDA#32
  | 45 => 0xB4C37BD6#32
  | 46 => 0x34BAF3E5#32
  | 47 => 0xB4B30492#32
  | 48 => 0x34ABA023#32
  | 49 => 0xB4A4BA5F#32
  | 50 => 0x349E485F#32
  | 51 => 0xB4984061#32
  | 52 => 0x349299A5#32
  | 53 => 0xB48D4C4D#32
  | 54 => 0x34885143#32
  | 55 => 0xB483A221#32
  | 56 => 0x347E723F#32
  | 57 => 0xB4762200#32
  | 58 => 0x346E49FF#32
  | 59 => 0xB466E193#32
  | 60 => 0x345FE0DA#32
  | 61 => 0xB45940A1#32
  | 62 => 0x3452FA51#32
  | 63 => 0xB44D07E6#32
  | 64 => 0x344763DA#32
  | 65 => 0xB4420919#32
  | 66 => 0x343CF2FA#32
  | 67 => 0xB4381D32#32
  | 68 => 0x343383CC#32
  | 69 => 0xB42F2322#32
  | 70 => 0x342AF7D2#32
  | 71 => 0xB426FEBD#32
  | 72 => 0x342334FF#32
  | 73 => 0xB41F97EA#32
  | 74 => 0x341C2500#32
  | 75 => 0xB418D9F0#32
  | 76 => 0x3415B495#32
  | 77 => 0xB412B2ED#32
  | 78 => 0x340FD31A#32
  | 79 => 0xB40D1360#32
  | 80 => 0x340A721F#32
  | 81 => 0xB407EDD1#32
  | 82 => 0x3405850C#32
  | 83 => 0xB403367C#32
  | 84 => 0x340100E3#32
  | 85 => 0xB3FDC62E#32
  | 86 => 0x33F9B800#32
  | 87 => 0xB3F5D532#32
  | 88 => 0x33F21BD6#32
  | 89 => 0xB3EE8A1F#32
  | 90 => 0x33EB1E5A#32
  | 91 => 0xB3E7D6EF#32
  | 92 => 0x33E4B25D#32
  | 93 => 0xB3E1AF3D#32
  | 94 => 0x33DECC38#32
  | 95 => 0xB3DC0810#32
  | 96 => 0x33D96196#32
  | 97 => 0xB3D6D7AE#32
  | 98 => 0x33D4694B#32
  | 99 => 0xB3D21572#32
  | 100 => 0x33CFDB34#32
  | 101 => 0xB3CDB9B1#32
  | 102 => 0x33CBB015#32
  | 103 => 0xB3C9BD97#32
  | 104 => 0x33C7E17D#32
  | 105 => 0xB3C61B15#32
  | 106 => 0x33C469B8#32
  | 107 => 0xB3C2CCC7#32
  | 108 => 0x33C143B0#32
  | 109 => 0xB3BFCDE6#32
  | 110 => 0x33BE6AE7#32
  | 111 => 0xB3BD1A36#32
  | 112 => 0x33BBDB61#32
  | 113 => 0xB3BAADFB#32
  | 114 => 0x33B9919E#32
  | 115 => 0xB3B885EC#32
  | 116 => 0x33B78A8A#32
  | 117 => 0xB3B69F28#32
  | 118 => 0x33B5C377#32
  | 119 => 0xB3B4F732#32
  | 120 => 0x33B43A15#32
  | 121 => 0xB3B38BE5#32
  | 122 => 0x33B2EC6A#32
  | 123 => 0xB3B25B72#32
  | 124 => 0x33B1D8CF#32
  | 125 => 0xB3B16459#32
  | 126 => 0x33B0FDEA#32
  | 127 => 0xB3B0A563#32
  | _ => 0#32

noncomputable abbrev lit0t0_268 (i : Nat) : BitVec 32 := match i % 128 with
  | 0 => 0xB3B0A563#32
  | 1 => 0x33B05AA9#32
  | 2 => 0xB3B01DA5#32
  | 3 => 0x33AFEE43#32
  | 4 => 0xB3AFCC75#32
  | 5 => 0x33AFB831#32
  | 6 => 0xB3AFB170#32
  | 7 => 0x33AFB831#32
  | 8 => 0xB3AFCC75#32
  | 9 => 0x33AFEE43#32
  | 10 => 0xB3B01DA5#32
  | 11 => 0x33B05AA9#32
  | 12 => 0xB3B0A563#32
  | 13 => 0x33B0FDEA#32
  | 14 => 0xB3B16459#32
  | 15 => 0x33B1D8CF#32
  | 16 => 0xB3B25B72#32
  | 17 => 0x33B2EC6A#32
  | 18 => 0xB3B38BE5#32
  | 19 => 0x33B43A15#32
  | 20 => 0xB3B4F732#32
  | 21 => 0x33B5C377#32
  | 22 => 0xB3B69F28#32
  | 23 => 0x33B78A8A#32
  | 24 => 0xB3B885EC#32
  | 25 => 0x33B9919E#32
  | 26 => 0xB3BAADFB#32
  | 27 => 0x33BBDB61#32
  | 28 => 0xB3BD1A36#32
  | 29 => 0x33BE6AE7#32
  | 30 => 0xB3BFCDE6#32
  | 31 => 0x33C143B0#32
  | 32 => 0xB3C2CCC7#32
  | 33 => 0x33C469B8#32
  | 34 => 0xB3C61B15#32
  | 35 => 0x33C7E17D#32
  | 36 => 0xB3C9BD97#32
  | 37 => 0x33CBB015#32
  | 38 => 0xB3CDB9B1#32
  | 39 => 0x33CFDB34#32
  | 40 => 0xB3D21572#32
  | 41 => 0x33D4694B#32
  | 42 => 0xB3D6D7AE#32
  | 43 => 0x33D96196#32
  | 44 => 0xB3DC0810#32
  | 45 => 0x33DECC38#32
  | 46 => 0xB3E1AF3D#32
  | 47 => 0x33E4B25D#32
  | 48 => 0xB3E7D6EF#32
  | 49 => 0x33EB1E5A#32
  | 50 => 0xB3EE8A1F#32
  | 51 => 0x33F21BD6#32
  | 52 => 0xB3F5D532#32
  | 53 => 0x33F9B800#32
  | 54 => 0xB3FDC62E#32
  | 55 => 0x340100E3#32
  | 56 => 0xB403367C#32
  | 57 => 0x3405850C#32
  | 58 => 0xB407EDD1#32
  | 59 => 0x340A721F#32
  | 60 => 0xB40D1360#32
  | 61 => 0x340FD31A#32
  | 62 => 0xB412B2ED#32
  | 63 => 0x3415B495#32
  | 64 => 0xB418D9F0#32
  | 65 => 0x341C2500#32
  | 66 => 0xB41F97EA#32
  | 67 => 0x342334FF#32
  | 68 => 0xB426FEBD#32
  | 69 => 0x342AF7D2#32
  | 70 => 0xB42F2322#32
  | 71 => 0x343383CC#32
  | 72 => 0xB4381D32#32
  | 73 => 0x343CF2FA#32
  | 74 => 0xB4420919#32
  | 75 => 0x344763DA#32
  | 76 => 0xB44D07E6#32
  | 77 => 0x3452FA51#32
  | 78 => 0xB45940A1#32
  | 79 => 0x345FE0DA#32
  | 80 => 0xB466E193#32
  | 81 => 0x346E49FF#32
  | 82 => 0xB4762200#32
  | 83 => 0x347E723F#32
  | 84 => 0xB483A221#32
  | 85 => 0x34885143#32
  | 86 => 0xB48D4C4D#32
  | 87 => 0x349299A5#32
  | 88 => 0xB4984061#32
  | 89 => 0x349E485F#32
  | 90 => 0xB4A4BA5F#32
  | 91 => 0x34ABA023#32
  | 92 => 0xB4B30492#32
  | 93 => 0x34BAF3E5#32
  | 94 => 0xB4C37BD6#32
  | 95 => 0x34CCABDA#32
  | 96 => 0xB4D69568#32
  | 97 => 0x34E14C49#32
  | 98 => 0xB4ECE6F7#32
  | 99 => 0x34F97F13#32
  | 100 => 0xB50398F7#32
  | 101 => 0x350B1097#32
  | 102 => 0xB51339CD#32
  | 103 => 0x351C2B08#32
  | 104 => 0xB525FE56#32
  | 105 => 0x3530D21D#32
  | 106 => 0xB53CCA00#32
  | 107 => 0x354A0FF9#32
  | 108 => 0xB558D5BB#32
  | 109 => 0x35695670#32
  | 110 => 0xB57BD8F1#32
  | 111 => 0x3588594C#32
  | 112 => 0xB5942572#32
  | 113 => 0x35A19018#32
  | 114 => 0xB5B0E6EF#32
  | 115 => 0x35C28A3B#32
  | 116 => 0xB5D6F23A#32
  | 117 => 0x35EEB658#32
  | 118 => 0xB6054B76#32
  | 119 => 0x3615C529#32
  | 120 => 0xB6296767#32
  | 121 => 0x3641014B#32
  | 122 => 0xB65DA20C#32
  | 123 => 0x368056F2#32
  | 124 => 0xB695FBC4#32
  | 125 => 0x36B0ED61#32
  | 126 => 0xB6D29E9B#32
  | 127 => 0x36FFBDB2#32
  | _ => 0#32

noncomputable abbrev lit0t0_269 (i : Nat) : BitVec 32 := match i % 128 with
  | 0 => 0xB692EE32#32
  | 1 => 0x391EBB1A#32
  | 2 => 0x3B12D0DF#32
  | 3 => 0x3CA0086D#32
  | 4 => 0x3DBAD58B#32
  | 5 => 0x3E6BB748#32
  | 6 => 0x3EA069FE#32
  | 7 => 0x3E6BB748#32
  | 8 => 0x3DBAD58B#32
  | 9 => 0x3CA0086D#32
  | 10 => 0x3B12D0DF#32
  | 11 => 0x391EBB1A#32
  | 12 => 0xB692EE32#32
  | 13 => 0x36FFBDB2#32
  | 14 => 0xB6D29E9B#32
  | 15 => 0x36B0ED61#32
  | 16 => 0xB695FBC4#32
  | 17 => 0x368056F2#32
  | 18 => 0xB65DA20C#32
  | 19 => 0x3641014B#32
  | 20 => 0xB6296767#32
  | 21 => 0x3615C529#32
  | 22 => 0xB6054B76#32
  | 23 => 0x35EEB658#32
  | 24 => 0xB5D6F23A#32
  | 25 => 0x35C28A3B#32
  | 26 => 0xB5B0E6EF#32
  | 27 => 0x35A19018#32
  | 28 => 0xB5942572#32
  | 29 => 0x3588594C#32
  | 30 => 0xB57BD8F1#32
  | 31 => 0x35695670#32
  | 32 => 0xB558D5BB#32
  | 33 => 0x354A0FF9#32
  | 34 => 0xB53CCA00#32
  | 35 => 0x3530D21D#32
  | 36 => 0xB525FE56#32
  | 37 => 0x351C2B08#32
  | 38 => 0xB51339CD#32
  | 39 => 0x350B1097#32
  | 40 => 0xB50398F7#32
  | 41 => 0x34F97F13#32
  | 42 => 0xB4ECE6F7#32
  | 43 => 0x34E14C49#32
  | 44 => 0xB4D69568#32
  | 45 => 0x34CCABDA#32
  | 46 => 0xB4C37BD6#32
  | 47 => 0x34BAF3E5#32
  | 48 => 0xB4B30492#32
  | 49 => 0x34ABA023#32
  | 50 => 0xB4A4BA5F#32
  | 51 => 0x349E485F#32
  | 52 => 0xB4984061#32
  | 53 => 0x349299A5#32
  | 54 => 0xB48D4C4D#32
  | 55 => 0x34885143#32
  | 56 => 0xB483A221#32
  | 57 => 0x347E723F#32
  | 58 => 0xB4762200#32
  | 59 => 0x346E49FF#32
  | 60 => 0xB466E193#32
  | 61 => 0x345FE0DA#32
  | 62 => 0xB45940A1#32
  | 63 => 0x3452FA51#32
  | 64 => 0xB44D07E6#32
  | 65 => 0x344763DA#32
  | 66 => 0xB4420919#32
  | 67 => 0x343CF2FA#32
  | 68 => 0xB4381D32#32
  | 69 => 0x343383CC#32
  | 70 => 0xB42F2322#32
  | 71 => 0x342AF7D2#32
  | 72 => 0xB426FEBD#32
  | 73 => 0x342334FF#32
  | 74 => 0xB41F97EA#32
  | 75 => 0x341C2500#32
  | 76 => 0xB418D9F0#32
  | 77 => 0x3415B495#32
  | 78 => 0xB412B2ED#32
  | 79 => 0x340FD31A#32
  | 80 => 0xB40D1360#32
  | 81 => 0x340A721F#32
  | 82 => 0xB407EDD1#32
  | 83 => 0x3405850C#32
  | 84 => 0xB403367C#32
  | 85 => 0x340100E3#32
  | 86 => 0xB3FDC62E#32
  | 87 => 0x33F9B800#32
  | 88 => 0xB3F5D532#32
  | 89 => 0x33F21BD6#32
  | 90 => 0xB3EE8A1F#32
  | 91 => 0x33EB1E5A#32
  | 92 => 0xB3E7D6EF#32
  | 93 => 0x33E4B25D#32
  | 94 => 0xB3E1AF3D#32
  | 95 => 0x33DECC38#32
  | 96 => 0xB3DC0810#32
  | 97 => 0x33D96196#32
  | 98 => 0xB3D6D7AE#32
  | 99 => 0x33D4694B#32
  | 100 => 0xB3D21572#32
  | 101 => 0x33CFDB34#32
  | 102 => 0xB3CDB9B1#32
  | 103 => 0x33CBB015#32
  | 104 => 0xB3C9BD97#32
  | 105 => 0x33C7E17D#32
  | 106 => 0xB3C61B15#32
  | 107 => 0x33C469B8#32
  | 108 => 0xB3C2CCC7#32
  | 109 => 0x33C143B0#32
  | 110 => 0xB3BFCDE6#32
  | 111 => 0x33BE6AE7#32
  | 112 => 0xB3BD1A36#32
  | 113 => 0x33BBDB61#32
  | 114 => 0xB3BAADFB#32
  | 115 => 0x33B9919E#32
  | 116 => 0xB3B885EC#32
  | 117 => 0x33B78A8A#32
  | 118 => 0xB3B69F28#32
  | 119 => 0x33B5C377#32
  | 120 => 0xB3B4F732#32
  | 121 => 0x33B43A15#32
  | 122 => 0xB3B38BE5#32
  | 123 => 0x33B2EC6A#32
  | 124 => 0xB3B25B72#32
  | 125 => 0x33B1D8CF#32
  | 126 => 0xB3B16459#32
  | 127 => 0x33B0FDEA#32
  | _ => 0#32

noncomputable abbrev lit0t0_270 (i : Nat) : BitVec 32 := match i % 128 with
  | 0 => 0x33B0FDEA#32
  | 1 => 0xB3B0A563#32
  | 2 => 0x33B05AA9#32
  | 3 => 0xB3B01DA5#32
  | 4 => 0x33AFEE43#32
  | 5 => 0xB3AFCC75#32
  | 6 => 0x33AFB831#32
  | 7 => 0xB3AFB170#32
  | 8 => 0x33AFB831#32
  | 9 => 0xB3AFCC75#32
  | 10 => 0x33AFEE43#32
  | 11 => 0xB3B01DA5#32
  | 12 => 0x33B05AA9#32
  | 13 => 0xB3B0A563#32
  | 14 => 0x33B0FDEA#32
  | 15 => 0xB3B16459#32
  | 16 => 0x33B1D8CF#32
  | 17 => 0xB3B25B72#32
  | 18 => 0x33B2EC6A#32
  | 19 => 0xB3B38BE5#32
  | 20 => 0x33B43A15#32
  | 21 => 0xB3B4F732#32
  | 22 => 0x33B5C377#32
  | 23 => 0xB3B69F28#32
  | 24 => 0x33B78A8A#32
  | 25 => 0xB3B885EC#32
  | 26 => 0x33B9919E#32
  | 27 => 0xB3BAADFB#32
  | 28 => 0x33BBDB61#32
  | 29 => 0xB3BD1A36#32
  | 30 => 0x33BE6AE7#32
  | 31 => 0xB3BFCDE6#32
  | 32 => 0x33C143B0#32
  | 33 => 0xB3C2CCC7#32
  | 34 => 0x33C469B8#32
  | 35 => 0xB3C61B15#32
  | 36 => 0x33C7E17D#32
  | 37 => 0xB3C9BD97#32
  | 38 => 0x33CBB015#32
  | 39 => 0xB3CDB9B1#32
  | 40 => 0x33CFDB34#32
  | 41 => 0xB3D21572#32
  | 42 => 0x33D4694B#32
  | 43 => 0xB3D6D7AE#32
  | 44 => 0x33D96196#32
  | 45 => 0xB3DC0810#32
  | 46 => 0x33DECC38#32
  | 47 => 0xB3E1AF3D#32
  | 48 => 0x33E4B25D#32
  | 49 => 0xB3E7D6EF#32
  | 50 => 0x33EB1E5A#32
  | 51 => 0xB3EE8A1F#32
  | 52 => 0x33F21BD6#32
  | 53 => 0xB3F5D532#32
  | 54 => 0x33F9B800#32
  | 55 => 0xB3FDC62E#32
  | 56 => 0x340100E3#32
  | 57 => 0xB403367C#32
  | 58 => 0x3405850C#32
  | 59 => 0xB407EDD1#32
  | 60 => 0x340A721F#32
  | 61 => 0xB40D1360#32
  | 62 => 0x340FD31A#32
  | 63 => 0xB412B2ED#32
  | 64 => 0x3415B495#32
  | 65 => 0xB418D9F0#32
  | 66 => 0x341C2500#32
  | 67 => 0xB41F97EA#32
  | 68 => 0x342334FF#32
  | 69 => 0xB426FEBD#32
  | 70 => 0x342AF7D2#32
  | 71 => 0xB42F2322#32
  | 72 => 0x343383CC#32
  | 73 => 0xB4381D32#32
  | 74 => 0x343CF2FA#32
  | 75 => 0xB4420919#32
  | 76 => 0x344763DA#32
  | 77 => 0xB44D07E6#32
  | 78 => 0x3452FA51#32
  | 79 => 0xB45940A1#32
  | 80 => 0x345FE0DA#32
  | 81 => 0xB466E193#32
  | 82 => 0x346E49FF#32
  | 83 => 0xB4762200#32
  | 84 => 0x347E723F#32
  | 85 => 0xB483A221#32
  | 86 => 0x34885143#32
  | 87 => 0xB48D4C4D#32
  | 88 => 0x349299A5#32
  | 89 => 0xB4984061#32
  | 90 => 0x349E485F#32
  | 91 => 0xB4A4BA5F#32
  | 92 => 0x34ABA023#32
  | 93 => 0xB4B30492#32
  | 94 => 0x34BAF3E5#32
  | 95 => 0xB4C37BD6#32
  | 96 => 0x34CCABDA#32
  | 97 => 0xB4D69568#32
  | 98 => 0x34E14C49#32
  | 99 => 0xB4ECE6F7#32
  | 100 => 0x34F97F13#32
  | 101 => 0xB50398F7#32
  | 102 => 0x350B1097#32
  | 103 => 0xB51339CD#32
  | 104 => 0x351C2B08#32
  | 105 => 0xB525FE56#32
  | 106 => 0x3530D21D#32
  | 107 => 0xB53CCA00#32
  | 108 => 0x354A0FF9#32
  | 109 => 0xB558D5BB#32
  | 110 => 0x35695670#32
  | 111 => 0xB57BD8F1#32
  | 112 => 0x3588594C#32
  | 113 => 0xB5942572#32
  | 114 => 0x35A19018#32
  | 115 => 0xB5B0E6EF#32
  | 116 => 0x35C28A3B#32
  | 117 => 0xB5D6F23A#32
  | 118 => 0x35EEB658#32
  | 119 => 0xB6054B76#32
  | 120 => 0x3615C529#32
  | 121 => 0xB6296767#32
  | 122 => 0x3641014B#32
  | 123 => 0xB65DA20C#32
  | 124 => 0x368056F2#32
  | 125 => 0xB695FBC4#32
  | 126 => 0x36B0ED61#32
  | 127 => 0xB6D29E9B#32
  | _ => 0#32

noncomputable abbrev lit0t0_271 (i : Nat) : BitVec 32 := match i % 128 with
  | 0 => 0x36FFBDB2#32
  | 1 => 0xB692EE32#32
  | 2 => 0x391EBB1A#32
  | 3 => 0x3B12D0DF#32
  | 4 => 0x3CA0086D#32
  | 5 => 0x3DBAD58B#32
  | 6 => 0x3E6BB748#32
  | 7 => 0x3EA069FE#32
  | 8 => 0x3E6BB748#32
  | 9 => 0x3DBAD58B#32
  | 10 => 0x3CA0086D#32
  | 11 => 0x3B12D0DF#32
  | 12 => 0x391EBB1A#32
  | 13 => 0xB692EE32#32
  | 14 => 0x36FFBDB2#32
  | 15 => 0xB6D29E9B#32
  | 16 => 0x36B0ED61#32
  | 17 => 0xB695FBC4#32
  | 18 => 0x368056F2#32
  | 19 => 0xB65DA20C#32
  | 20 => 0x3641014B#32
  | 21 => 0xB6296767#32
  | 22 => 0x3615C529#32
  | 23 => 0xB6054B76#32
  | 24 => 0x35EEB658#32
  | 25 => 0xB5D6F23A#32
  | 26 => 0x35C28A3B#32
  | 27 => 0xB5B0E6EF#32
  | 28 => 0x35A19018#32
  | 29 => 0xB5942572#32
  | 30 => 0x3588594C#32
  | 31 => 0xB57BD8F1#32
  | 32 => 0x35695670#32
  | 33 => 0xB558D5BB#32
  | 34 => 0x354A0FF9#32
  | 35 => 0xB53CCA00#32
  | 36 => 0x3530D21D#32
  | 37 => 0xB525FE56#32
  | 38 => 0x351C2B08#32
  | 39 => 0xB51339CD#32
  | 40 => 0x350B1097#32
  | 41 => 0xB50398F7#32
  | 42 => 0x34F97F13#32
  | 43 => 0xB4ECE6F7#32
  | 44 => 0x34E14C49#32
  | 45 => 0xB4D69568#32
  | 46 => 0x34CCABDA#32
  | 47 => 0xB4C37BD6#32
  | 48 => 0x34BAF3E5#32
  | 49 => 0xB4B30492#32
  | 50 => 0x34ABA023#32
  | 51 => 0xB4A4BA5F#32
  | 52 => 0x349E485F#32
  | 53 => 0xB4984061#32
  | 54 => 0x349299A5#32
  | 55 => 0xB48D4C4D#32
  | 56 => 0x34885143#32
  | 57 => 0xB483A221#32
  | 58 => 0x347E723F#32
  | 59 => 0xB4762200#32
  | 60 => 0x346E49FF#32
  | 61 => 0xB466E193#32
  | 62 => 0x345FE0DA#32
  | 63 => 0xB45940A1#32
  | 64 => 0x3452FA51#32
  | 65 => 0xB44D07E6#32
  | 66 => 0x344763DA#32
  | 67 => 0xB4420919#32
  | 68 => 0x343CF2FA#32
  | 69 => 0xB4381D32#32
  | 70 => 0x343383CC#32
  | 71 => 0xB42F2322#32
  | 72 => 0x342AF7D2#32
  | 73 => 0xB426FEBD#32
  | 74 => 0x342334FF#32
  | 75 => 0xB41F97EA#32
  | 76 => 0x341C2500#32
  | 77 => 0xB418D9F0#32
  | 78 => 0x3415B495#32
  | 79 => 0xB412B2ED#32
  | 80 => 0x340FD31A#32
  | 81 => 0xB40D1360#32
  | 82 => 0x340A721F#32
  | 83 => 0xB407EDD1#32
  | 84 => 0x3405850C#32
  | 85 => 0xB403367C#32
  | 86 => 0x340100E3#32
  | 87 => 0xB3FDC62E#32
  | 88 => 0x33F9B800#32
  | 89 => 0xB3F5D532#32
  | 90 => 0x33F21BD6#32
  | 91 => 0xB3EE8A1F#32
  | 92 => 0x33EB1E5A#32
  | 93 => 0xB3E7D6EF#32
  | 94 => 0x33E4B25D#32
  | 95 => 0xB3E1AF3D#32
  | 96 => 0x33DECC38#32
  | 97 => 0xB3DC0810#32
  | 98 => 0x33D96196#32
  | 99 => 0xB3D6D7AE#32
  | 100 => 0x33D4694B#32
  | 101 => 0xB3D21572#32
  | 102 => 0x33CFDB34#32
  | 103 => 0xB3CDB9B1#32
  | 104 => 0x33CBB015#32
  | 105 => 0xB3C9BD97#32
  | 106 => 0x33C7E17D#32
  | 107 => 0xB3C61B15#32
  | 108 => 0x33C469B8#32
  | 109 => 0xB3C2CCC7#32
  | 110 => 0x33C143B0#32
  | 111 => 0xB3BFCDE6#32
  | 112 => 0x33BE6AE7#32
  | 113 => 0xB3BD1A36#32
  | 114 => 0x33BBDB61#32
  | 115 => 0xB3BAADFB#32
  | 116 => 0x33B9919E#32
  | 117 => 0xB3B885EC#32
  | 118 => 0x33B78A8A#32
  | 119 => 0xB3B69F28#32
  | 120 => 0x33B5C377#32
  | 121 => 0xB3B4F732#32
  | 122 => 0x33B43A15#32
  | 123 => 0xB3B38BE5#32
  | 124 => 0x33B2EC6A#32
  | 125 => 0xB3B25B72#32
  | 126 => 0x33B1D8CF#32
  | 127 => 0xB3B16459#32
  | _ => 0#32

noncomputable abbrev lit0t0_272 (i : Nat) : BitVec 32 := match i % 128 with
  | 0 => 0xB3B16459#32
  | 1 => 0x33B0FDEA#32
  | 2 => 0xB3B0A563#32
  | 3 => 0x33B05AA9#32
  | 4 => 0xB3B01DA5#32
  | 5 => 0x33AFEE43#32
  | 6 => 0xB3AFCC75#32
  | 7 => 0x33AFB831#32
  | 8 => 0xB3AFB170#32
  | 9 => 0x33AFB831#32
  | 10 => 0xB3AFCC75#32
  | 11 => 0x33AFEE43#32
  | 12 => 0xB3B01DA5#32
  | 13 => 0x33B05AA9#32
  | 14 => 0xB3B0A563#32
  | 15 => 0x33B0FDEA#32
  | 16 => 0xB3B16459#32
  | 17 => 0x33B1D8CF#32
  | 18 => 0xB3B25B72#32
  | 19 => 0x33B2EC6A#32
  | 20 => 0xB3B38BE5#32
  | 21 => 0x33B43A15#32
  | 22 => 0xB3B4F732#32
  | 23 => 0x33B5C377#32
  | 24 => 0xB3B69F28#32
  | 25 => 0x33B78A8A#32
  | 26 => 0xB3B885EC#32
  | 27 => 0x33B9919E#32
  | 28 => 0xB3BAADFB#32
  | 29 => 0x33BBDB61#32
  | 30 => 0xB3BD1A36#32
  | 31 => 0x33BE6AE7#32
  | 32 => 0xB3BFCDE6#32
  | 33 => 0x33C143B0#32
  | 34 => 0xB3C2CCC7#32
  | 35 => 0x33C469B8#32
  | 36 => 0xB3C61B15#32
  | 37 => 0x33C7E17D#32
  | 38 => 0xB3C9BD97#32
  | 39 => 0x33CBB015#32
  | 40 => 0xB3CDB9B1#32
  | 41 => 0x33CFDB34#32
  | 42 => 0xB3D21572#32
  | 43 => 0x33D4694B#32
  | 44 => 0xB3D6D7AE#32
  | 45 => 0x33D96196#32
  | 46 => 0xB3DC0810#32
  | 47 => 0x33DECC38#32
  | 48 => 0xB3E1AF3D#32
  | 49 => 0x33E4B25D#32
  | 50 => 0xB3E7D6EF#32
  | 51 => 0x33EB1E5A#32
  | 52 => 0xB3EE8A1F#32
  | 53 => 0x33F21BD6#32
  | 54 => 0xB3F5D532#32
  | 55 => 0x33F9B800#32
  | 56 => 0xB3FDC62E#32
  | 57 => 0x340100E3#32
  | 58 => 0xB403367C#32
  | 59 => 0x3405850C#32
  | 60 => 0xB407EDD1#32
  | 61 => 0x340A721F#32
  | 62 => 0xB40D1360#32
  | 63 => 0x340FD31A#32
  | 64 => 0xB412B2ED#32
  | 65 => 0x3415B495#32
  | 66 => 0xB418D9F0#32
  | 67 => 0x341C2500#32
  | 68 => 0xB41F97EA#32
  | 69 => 0x342334FF#32
  | 70 => 0xB426FEBD#32
  | 71 => 0x342AF7D2#32
  | 72 => 0xB42F2322#32
  | 73 => 0x343383CC#32
  | 74 => 0xB4381D32#32
  | 75 => 0x343CF2FA#32
  | 76 => 0xB4420919#32
  | 77 => 0x344763DA#32
  | 78 => 0xB44D07E6#32
  | 79 => 0x3452FA51#32
  | 80 => 0xB45940A1#32
  | 81 => 0x345FE0DA#32
  | 82 => 0xB466E193#32
  | 83 => 0x346E49FF#32
  | 84 => 0xB4762200#32
  | 85 => 0x347E723F#32
  | 86 => 0xB483A221#32
  | 87 => 0x34885143#32
  | 88 => 0xB48D4C4D#32
  | 89 => 0x349299A5#32
  | 90 => 0xB4984061#32
  | 91 => 0x349E485F#32
  | 92 => 0xB4A4BA5F#32
  | 93 => 0x34ABA023#32
  | 94 => 0xB4B30492#32
  | 95 => 0x34BAF3E5#32
  | 96 => 0xB4C37BD6#32
  | 97 => 0x34CCABDA#32
  | 98 => 0xB4D69568#32
  | 99 => 0x34E14C49#32
  | 100 => 0xB4ECE6F7#32
  | 101 => 0x34F97F13#32
  | 102 => 0xB50398F7#32
  | 103 => 0x350B1097#32
  | 104 => 0xB51339CD#32
  | 105 => 0x351C2B08#32
  | 106 => 0xB525FE56#32
  | 107 => 0x3530D21D#32
  | 108 => 0xB53CCA00#32
  | 109 => 0x354A0FF9#32
  | 110 => 0xB558D5BB#32
  | 111 => 0x35695670#32
  | 112 => 0xB57BD8F1#32
  | 113 => 0x3588594C#32
  | 114 => 0xB5942572#32
  | 115 => 0x35A19018#32
  | 116 => 0xB5B0E6EF#32
  | 117 => 0x35C28A3B#32
  | 118 => 0xB5D6F23A#32
  | 119 => 0x35EEB658#32
  | 120 => 0xB6054B76#32
  | 121 => 0x3615C529#32
  | 122 => 0xB6296767#32
  | 123 => 0x3641014B#32
  | 124 => 0xB65DA20C#32
  | 125 => 0x368056F2#32
  | 126 => 0xB695FBC4#32
  | 127 => 0x36B0ED61#32
  | _ => 0#32

noncomputable abbrev lit0t0_273 (i : Nat) : BitVec 32 := match i % 128 with
  | 0 => 0xB6D29E9B#32
  | 1 => 0x36FFBDB2#32
  | 2 => 0xB692EE32#32
  | 3 => 0x391EBB1A#32
  | 4 => 0x3B12D0DF#32
  | 5 => 0x3CA0086D#32
  | 6 => 0x3DBAD58B#32
  | 7 => 0x3E6BB748#32
  | 8 => 0x3EA069FE#32
  | 9 => 0x3E6BB748#32
  | 10 => 0x3DBAD58B#32
  | 11 => 0x3CA0086D#32
  | 12 => 0x3B12D0DF#32
  | 13 => 0x391EBB1A#32
  | 14 => 0xB692EE32#32
  | 15 => 0x36FFBDB2#32
  | 16 => 0xB6D29E9B#32
  | 17 => 0x36B0ED61#32
  | 18 => 0xB695FBC4#32
  | 19 => 0x368056F2#32
  | 20 => 0xB65DA20C#32
  | 21 => 0x3641014B#32
  | 22 => 0xB6296767#32
  | 23 => 0x3615C529#32
  | 24 => 0xB6054B76#32
  | 25 => 0x35EEB658#32
  | 26 => 0xB5D6F23A#32
  | 27 => 0x35C28A3B#32
  | 28 => 0xB5B0E6EF#32
  | 29 => 0x35A19018#32
  | 30 => 0xB5942572#32
  | 31 => 0x3588594C#32
  | 32 => 0xB57BD8F1#32
  | 33 => 0x35695670#32
  | 34 => 0xB558D5BB#32
  | 35 => 0x354A0FF9#32
  | 36 => 0xB53CCA00#32
  | 37 => 0x3530D21D#32
  | 38 => 0xB525FE56#32
  | 39 => 0x351C2B08#32
  | 40 => 0xB51339CD#32
  | 41 => 0x350B1097#32
  | 42 => 0xB50398F7#32
  | 43 => 0x34F97F13#32
  | 44 => 0xB4ECE6F7#32
  | 45 => 0x34E14C49#32
  | 46 => 0xB4D69568#32
  | 47 => 0x34CCABDA#32
  | 48 => 0xB4C37BD6#32
  | 49 => 0x34BAF3E5#32
  | 50 => 0xB4B30492#32
  | 51 => 0x34ABA023#32
  | 52 => 0xB4A4BA5F#32
  | 53 => 0x349E485F#32
  | 54 => 0xB4984061#32
  | 55 => 0x349299A5#32
  | 56 => 0xB48D4C4D#32
  | 57 => 0x34885143#32
  | 58 => 0xB483A221#32
  | 59 => 0x347E723F#32
  | 60 => 0xB4762200#32
  | 61 => 0x346E49FF#32
  | 62 => 0xB466E193#32
  | 63 => 0x345FE0DA#32
  | 64 => 0xB45940A1#32
  | 65 => 0x3452FA51#32
  | 66 => 0xB44D07E6#32
  | 67 => 0x344763DA#32
  | 68 => 0xB4420919#32
  | 69 => 0x343CF2FA#32
  | 70 => 0xB4381D32#32
  | 71 => 0x343383CC#32
  | 72 => 0xB42F2322#32
  | 73 => 0x342AF7D2#32
  | 74 => 0xB426FEBD#32
  | 75 => 0x342334FF#32
  | 76 => 0xB41F97EA#32
  | 77 => 0x341C2500#32
  | 78 => 0xB418D9F0#32
  | 79 => 0x3415B495#32
  | 80 => 0xB412B2ED#32
  | 81 => 0x340FD31A#32
  | 82 => 0xB40D1360#32
  | 83 => 0x340A721F#32
  | 84 => 0xB407EDD1#32
  | 85 => 0x3405850C#32
  | 86 => 0xB403367C#32
  | 87 => 0x340100E3#32
  | 88 => 0xB3FDC62E#32
  | 89 => 0x33F9B800#32
  | 90 => 0xB3F5D532#32
  | 91 => 0x33F21BD6#32
  | 92 => 0xB3EE8A1F#32
  | 93 => 0x33EB1E5A#32
  | 94 => 0xB3E7D6EF#32
  | 95 => 0x33E4B25D#32
  | 96 => 0xB3E1AF3D#32
  | 97 => 0x33DECC38#32
  | 98 => 0xB3DC0810#32
  | 99 => 0x33D96196#32
  | 100 => 0xB3D6D7AE#32
  | 101 => 0x33D4694B#32
  | 102 => 0xB3D21572#32
  | 103 => 0x33CFDB34#32
  | 104 => 0xB3CDB9B1#32
  | 105 => 0x33CBB015#32
  | 106 => 0xB3C9BD97#32
  | 107 => 0x33C7E17D#32
  | 108 => 0xB3C61B15#32
  | 109 => 0x33C469B8#32
  | 110 => 0xB3C2CCC7#32
  | 111 => 0x33C143B0#32
  | 112 => 0xB3BFCDE6#32
  | 113 => 0x33BE6AE7#32
  | 114 => 0xB3BD1A36#32
  | 115 => 0x33BBDB61#32
  | 116 => 0xB3BAADFB#32
  | 117 => 0x33B9919E#32
  | 118 => 0xB3B885EC#32
  | 119 => 0x33B78A8A#32
  | 120 => 0xB3B69F28#32
  | 121 => 0x33B5C377#32
  | 122 => 0xB3B4F732#32
  | 123 => 0x33B43A15#32
  | 124 => 0xB3B38BE5#32
  | 125 => 0x33B2EC6A#32
  | 126 => 0xB3B25B72#32
  | 127 => 0x33B1D8CF#32
  | _ => 0#32

noncomputable abbrev lit0t0_274 (i : Nat) : BitVec 32 := match i % 128 with
  | 0 => 0x33B1D8CF#32
  | 1 => 0xB3B16459#32
  | 2 => 0x33B0FDEA#32
  | 3 => 0xB3B0A563#32
  | 4 => 0x33B05AA9#32
  | 5 => 0xB3B01DA5#32
  | 6 => 0x33AFEE43#32
  | 7 => 0xB3AFCC75#32
  | 8 => 0x33AFB831#32
  | 9 => 0xB3AFB170#32
  | 10 => 0x33AFB831#32
  | 11 => 0xB3AFCC75#32
  | 12 => 0x33AFEE43#32
  | 13 => 0xB3B01DA5#32
  | 14 => 0x33B05AA9#32
  | 15 => 0xB3B0A563#32
  | 16 => 0x33B0FDEA#32
  | 17 => 0xB3B16459#32
  | 18 => 0x33B1D8CF#32
  | 19 => 0xB3B25B72#32
  | 20 => 0x33B2EC6A#32
  | 21 => 0xB3B38BE5#32
  | 22 => 0x33B43A15#32
  | 23 => 0xB3B4F732#32
  | 24 => 0x33B5C377#32
  | 25 => 0xB3B69F28#32
  | 26 => 0x33B78A8A#32
  | 27 => 0xB3B885EC#32
  | 28 => 0x33B9919E#32
  | 29 => 0xB3BAADFB#32
  | 30 => 0x33BBDB61#32
  | 31 => 0xB3BD1A36#32
  | 32 => 0x33BE6AE7#32
  | 33 => 0xB3BFCDE6#32
  | 34 => 0x33C143B0#32
  | 35 => 0xB3C2CCC7#32
  | 36 => 0x33C469B8#32
  | 37 => 0xB3C61B15#32
  | 38 => 0x33C7E17D#32
  | 39 => 0xB3C9BD97#32
  | 40 => 0x33CBB015#32
  | 41 => 0xB3CDB9B1#32
  | 42 => 0x33CFDB34#32
  | 43 => 0xB3D21572#32
  | 44 => 0x33D4694B#32
  | 45 => 0xB3D6D7AE#32
  | 46 => 0x33D96196#32
  | 47 => 0xB3DC0810#32
  | 48 => 0x33DECC38#32
  | 49 => 0xB3E1AF3D#32
  | 50 => 0x33E4B25D#32
  | 51 => 0xB3E7D6EF#32
  | 52 => 0x33EB1E5A#32
  | 53 => 0xB3EE8A1F#32
  | 54 => 0x33F21BD6#32
  | 55 => 0xB3F5D532#32
  | 56 => 0x33F9B800#32
  | 57 => 0xB3FDC62E#32
  | 58 => 0x340100E3#32
  | 59 => 0xB403367C#32
  | 60 => 0x3405850C#32
  | 61 => 0xB407EDD1#32
  | 62 => 0x340A721F#32
  | 63 => 0xB40D1360#32
  | 64 => 0x340FD31A#32
  | 65 => 0xB412B2ED#32
  | 66 => 0x3415B495#32
  | 67 => 0xB418D9F0#32
  | 68 => 0x341C2500#32
  | 69 => 0xB41F97EA#32
  | 70 => 0x342334FF#32
  | 71 => 0xB426FEBD#32
  | 72 => 0x342AF7D2#32
  | 73 => 0xB42F2322#32
  | 74 => 0x343383CC#32
  | 75 => 0xB4381D32#32
  | 76 => 0x343CF2FA#32
  | 77 => 0xB4420919#32
  | 78 => 0x344763DA#32
  | 79 => 0xB44D07E6#32
  | 80 => 0x3452FA51#32
  | 81 => 0xB45940A1#32
  | 82 => 0x345FE0DA#32
  | 83 => 0xB466E193#32
  | 84 => 0x346E49FF#32
  | 85 => 0xB4762200#32
  | 86 => 0x347E723F#32
  | 87 => 0xB483A221#32
  | 88 => 0x34885143#32
  | 89 => 0xB48D4C4D#32
  | 90 => 0x349299A5#32
  | 91 => 0xB4984061#32
  | 92 => 0x349E485F#32
  | 93 => 0xB4A4BA5F#32
  | 94 => 0x34ABA023#32
  | 95 => 0xB4B30492#32
  | 96 => 0x34BAF3E5#32
  | 97 => 0xB4C37BD6#32
  | 98 => 0x34CCABDA#32
  | 99 => 0xB4D69568#32
  | 100 => 0x34E14C49#32
  | 101 => 0xB4ECE6F7#32
  | 102 => 0x34F97F13#32
  | 103 => 0xB50398F7#32
  | 104 => 0x350B1097#32
  | 105 => 0xB51339CD#32
  | 106 => 0x351C2B08#32
  | 107 => 0xB525FE56#32
  | 108 => 0x3530D21D#32
  | 109 => 0xB53CCA00#32
  | 110 => 0x354A0FF9#32
  | 111 => 0xB558D5BB#32
  | 112 => 0x35695670#32
  | 113 => 0xB57BD8F1#32
  | 114 => 0x3588594C#32
  | 115 => 0xB5942572#32
  | 116 => 0x35A19018#32
  | 117 => 0xB5B0E6EF#32
  | 118 => 0x35C28A3B#32
  | 119 => 0xB5D6F23A#32
  | 120 => 0x35EEB658#32
  | 121 => 0xB6054B76#32
  | 122 => 0x3615C529#32
  | 123 => 0xB6296767#32
  | 124 => 0x3641014B#32
  | 125 => 0xB65DA20C#32
  | 126 => 0x368056F2#32
  | 127 => 0xB695FBC4#32
  | _ => 0#32

noncomputable abbrev lit0t0_275 (i : Nat) : BitVec 32 := match i % 128 with
  | 0 => 0x36B0ED61#32
  | 1 => 0xB6D29E9B#32
  | 2 => 0x36FFBDB2#32
  | 3 => 0xB692EE32#32
  | 4 => 0x391EBB1A#32
  | 5 => 0x3B12D0DF#32
  | 6 => 0x3CA0086D#32
  | 7 => 0x3DBAD58B#32
  | 8 => 0x3E6BB748#32
  | 9 => 0x3EA069FE#32
  | 10 => 0x3E6BB748#32
  | 11 => 0x3DBAD58B#32
  | 12 => 0x3CA0086D#32
  | 13 => 0x3B12D0DF#32
  | 14 => 0x391EBB1A#32
  | 15 => 0xB692EE32#32
  | 16 => 0x36FFBDB2#32
  | 17 => 0xB6D29E9B#32
  | 18 => 0x36B0ED61#32
  | 19 => 0xB695FBC4#32
  | 20 => 0x368056F2#32
  | 21 => 0xB65DA20C#32
  | 22 => 0x3641014B#32
  | 23 => 0xB6296767#32
  | 24 => 0x3615C529#32
  | 25 => 0xB6054B76#32
  | 26 => 0x35EEB658#32
  | 27 => 0xB5D6F23A#32
  | 28 => 0x35C28A3B#32
  | 29 => 0xB5B0E6EF#32
  | 30 => 0x35A19018#32
  | 31 => 0xB5942572#32
  | 32 => 0x3588594C#32
  | 33 => 0xB57BD8F1#32
  | 34 => 0x35695670#32
  | 35 => 0xB558D5BB#32
  | 36 => 0x354A0FF9#32
  | 37 => 0xB53CCA00#32
  | 38 => 0x3530D21D#32
  | 39 => 0xB525FE56#32
  | 40 => 0x351C2B08#32
  | 41 => 0xB51339CD#32
  | 42 => 0x350B1097#32
  | 43 => 0xB50398F7#32
  | 44 => 0x34F97F13#32
  | 45 => 0xB4ECE6F7#32
  | 46 => 0x34E14C49#32
  | 47 => 0xB4D69568#32
  | 48 => 0x34CCABDA#32
  | 49 => 0xB4C37BD6#32
  | 50 => 0x34BAF3E5#32
  | 51 => 0xB4B30492#32
  | 52 => 0x34ABA023#32
  | 53 => 0xB4A4BA5F#32
  | 54 => 0x349E485F#32
  | 55 => 0xB4984061#32
  | 56 => 0x349299A5#32
  | 57 => 0xB48D4C4D#32
  | 58 => 0x34885143#32
  | 59 => 0xB483A221#32
  | 60 => 0x347E723F#32
  | 61 => 0xB4762200#32
  | 62 => 0x346E49FF#32
  | 63 => 0xB466E193#32
  | 64 => 0x345FE0DA#32
  | 65 => 0xB45940A1#32
  | 66 => 0x3452FA51#32
  | 67 => 0xB44D07E6#32
  | 68 => 0x344763DA#32
  | 69 => 0xB4420919#32
  | 70 => 0x343CF2FA#32
  | 71 => 0xB4381D32#32
  | 72 => 0x343383CC#32
  | 73 => 0xB42F2322#32
  | 74 => 0x342AF7D2#32
  | 75 => 0xB426FEBD#32
  | 76 => 0x342334FF#32
  | 77 => 0xB41F97EA#32
  | 78 => 0x341C2500#32
  | 79 => 0xB418D9F0#32
  | 80 => 0x3415B495#32
  | 81 => 0xB412B2ED#32
  | 82 => 0x340FD31A#32
  | 83 => 0xB40D1360#32
  | 84 => 0x340A721F#32
  | 85 => 0xB407EDD1#32
  | 86 => 0x3405850C#32
  | 87 => 0xB403367C#32
  | 88 => 0x340100E3#32
  | 89 => 0xB3FDC62E#32
  | 90 => 0x33F9B800#32
  | 91 => 0xB3F5D532#32
  | 92 => 0x33F21BD6#32
  | 93 => 0xB3EE8A1F#32
  | 94 => 0x33EB1E5A#32
  | 95 => 0xB3E7D6EF#32
  | 96 => 0x33E4B25D#32
  | 97 => 0xB3E1AF3D#32
  | 98 => 0x33DECC38#32
  | 99 => 0xB3DC0810#32
  | 100 => 0x33D96196#32
  | 101 => 0xB3D6D7AE#32
  | 102 => 0x33D4694B#32
  | 103 => 0xB3D21572#32
  | 104 => 0x33CFDB34#32
  | 105 => 0xB3CDB9B1#32
  | 106 => 0x33CBB015#32
  | 107 => 0xB3C9BD97#32
  | 108 => 0x33C7E17D#32
  | 109 => 0xB3C61B15#32
  | 110 => 0x33C469B8#32
  | 111 => 0xB3C2CCC7#32
  | 112 => 0x33C143B0#32
  | 113 => 0xB3BFCDE6#32
  | 114 => 0x33BE6AE7#32
  | 115 => 0xB3BD1A36#32
  | 116 => 0x33BBDB61#32
  | 117 => 0xB3BAADFB#32
  | 118 => 0x33B9919E#32
  | 119 => 0xB3B885EC#32
  | 120 => 0x33B78A8A#32
  | 121 => 0xB3B69F28#32
  | 122 => 0x33B5C377#32
  | 123 => 0xB3B4F732#32
  | 124 => 0x33B43A15#32
  | 125 => 0xB3B38BE5#32
  | 126 => 0x33B2EC6A#32
  | 127 => 0xB3B25B72#32
  | _ => 0#32

noncomputable abbrev lit0t0_276 (i : Nat) : BitVec 32 := match i % 128 with
  | 0 => 0xB3B25B72#32
  | 1 => 0x33B1D8CF#32
  | 2 => 0xB3B16459#32
  | 3 => 0x33B0FDEA#32
  | 4 => 0xB3B0A563#32
  | 5 => 0x33B05AA9#32
  | 6 => 0xB3B01DA5#32
  | 7 => 0x33AFEE43#32
  | 8 => 0xB3AFCC75#32
  | 9 => 0x33AFB831#32
  | 10 => 0xB3AFB170#32
  | 11 => 0x33AFB831#32
  | 12 => 0xB3AFCC75#32
  | 13 => 0x33AFEE43#32
  | 14 => 0xB3B01DA5#32
  | 15 => 0x33B05AA9#32
  | 16 => 0xB3B0A563#32
  | 17 => 0x33B0FDEA#32
  | 18 => 0xB3B16459#32
  | 19 => 0x33B1D8CF#32
  | 20 => 0xB3B25B72#32
  | 21 => 0x33B2EC6A#32
  | 22 => 0xB3B38BE5#32
  | 23 => 0x33B43A15#32
  | 24 => 0xB3B4F732#32
  | 25 => 0x33B5C377#32
  | 26 => 0xB3B69F28#32
  | 27 => 0x33B78A8A#32
  | 28 => 0xB3B885EC#32
  | 29 => 0x33B9919E#32
  | 30 => 0xB3BAADFB#32
  | 31 => 0x33BBDB61#32
  | 32 => 0xB3BD1A36#32
  | 33 => 0x33BE6AE7#32
  | 34 => 0xB3BFCDE6#32
  | 35 => 0x33C143B0#32
  | 36 => 0xB3C2CCC7#32
  | 37 => 0x33C469B8#32
  | 38 => 0xB3C61B15#32
  | 39 => 0x33C7E17D#32
  | 40 => 0xB3C9BD97#32
  | 41 => 0x33CBB015#32
  | 42 => 0xB3CDB9B1#32
  | 43 => 0x33CFDB34#32
  | 44 => 0xB3D21572#32
  | 45 => 0x33D4694B#32
  | 46 => 0xB3D6D7AE#32
  | 47 => 0x33D96196#32
  | 48 => 0xB3DC0810#32
  | 49 => 0x33DECC38#32
  | 50 => 0xB3E1AF3D#32
  | 51 => 0x33E4B25D#32
  | 52 => 0xB3E7D6EF#32
  | 53 => 0x33EB1E5A#32
  | 54 => 0xB3EE8A1F#32
  | 55 => 0x33F21BD6#32
  | 56 => 0xB3F5D532#32
  | 57 => 0x33F9B800#32
  | 58 => 0xB3FDC62E#32
  | 59 => 0x340100E3#32
  | 60 => 0xB403367C#32
  | 61 => 0x3405850C#32
  | 62 => 0xB407EDD1#32
  | 63 => 0x340A721F#32
  | 64 => 0xB40D1360#32
  | 65 => 0x340FD31A#32
  | 66 => 0xB412B2ED#32
  | 67 => 0x3415B495#32
  | 68 => 0xB418D9F0#32
  | 69 => 0x341C2500#32
  | 70 => 0xB41F97EA#32
  | 71 => 0x342334FF#32
  | 72 => 0xB426FEBD#32
  | 73 => 0x342AF7D2#32
  | 74 => 0xB42F2322#32
  | 75 => 0x343383CC#32
  | 76 => 0xB4381D32#32
  | 77 => 0x343CF2FA#32
  | 78 => 0xB4420919#32
  | 79 => 0x344763DA#32
  | 80 => 0xB44D07E6#32
  | 81 => 0x3452FA51#32
  | 82 => 0xB45940A1#32
  | 83 => 0x345FE0DA#32
  | 84 => 0xB466E193#32
  | 85 => 0x346E49FF#32
  | 86 => 0xB4762200#32
  | 87 => 0x347E723F#32
  | 88 => 0xB483A221#32
  | 89 => 0x34885143#32
  | 90 => 0xB48D4C4D#32
  | 91 => 0x349299A5#32
  | 92 => 0xB4984061#32
  | 93 => 0x349E485F#32
  | 94 => 0xB4A4BA5F#32
  | 95 => 0x34ABA023#32
  | 96 => 0xB4B30492#32
  | 97 => 0x34BAF3E5#32
  | 98 => 0xB4C37BD6#32
  | 99 => 0x34CCABDA#32
  | 100 => 0xB4D69568#32
  | 101 => 0x34E14C49#32
  | 102 => 0xB4ECE6F7#32
  | 103 => 0x34F97F13#32
  | 104 => 0xB50398F7#32
  | 105 => 0x350B1097#32
  | 106 => 0xB51339CD#32
  | 107 => 0x351C2B08#32
  | 108 => 0xB525FE56#32
  | 109 => 0x3530D21D#32
  | 110 => 0xB53CCA00#32
  | 111 => 0x354A0FF9#32
  | 112 => 0xB558D5BB#32
  | 113 => 0x35695670#32
  | 114 => 0xB57BD8F1#32
  | 115 => 0x3588594C#32
  | 116 => 0xB5942572#32
  | 117 => 0x35A19018#32
  | 118 => 0xB5B0E6EF#32
  | 119 => 0x35C28A3B#32
  | 120 => 0xB5D6F23A#32
  | 121 => 0x35EEB658#32
  | 122 => 0xB6054B76#32
  | 123 => 0x3615C529#32
  | 124 => 0xB6296767#32
  | 125 => 0x3641014B#32
  | 126 => 0xB65DA20C#32
  | 127 => 0x368056F2#32
  | _ => 0#32

noncomputable abbrev lit0t0_277 (i : Nat) : BitVec 32 := match i % 128 with
  | 0 => 0xB695FBC4#32
  | 1 => 0x36B0ED61#32
  | 2 => 0xB6D29E9B#32
  | 3 => 0x36FFBDB2#32
  | 4 => 0xB692EE32#32
  | 5 => 0x391EBB1A#32
  | 6 => 0x3B12D0DF#32
  | 7 => 0x3CA0086D#32
  | 8 => 0x3DBAD58B#32
  | 9 => 0x3E6BB748#32
  | 10 => 0x3EA069FE#32
  | 11 => 0x3E6BB748#32
  | 12 => 0x3DBAD58B#32
  | 13 => 0x3CA0086D#32
  | 14 => 0x3B12D0DF#32
  | 15 => 0x391EBB1A#32
  | 16 => 0xB692EE32#32
  | 17 => 0x36FFBDB2#32
  | 18 => 0xB6D29E9B#32
  | 19 => 0x36B0ED61#32
  | 20 => 0xB695FBC4#32
  | 21 => 0x368056F2#32
  | 22 => 0xB65DA20C#32
  | 23 => 0x3641014B#32
  | 24 => 0xB6296767#32
  | 25 => 0x3615C529#32
  | 26 => 0xB6054B76#32
  | 27 => 0x35EEB658#32
  | 28 => 0xB5D6F23A#32
  | 29 => 0x35C28A3B#32
  | 30 => 0xB5B0E6EF#32
  | 31 => 0x35A19018#32
  | 32 => 0xB5942572#32
  | 33 => 0x3588594C#32
  | 34 => 0xB57BD8F1#32
  | 35 => 0x35695670#32
  | 36 => 0xB558D5BB#32
  | 37 => 0x354A0FF9#32
  | 38 => 0xB53CCA00#32
  | 39 => 0x3530D21D#32
  | 40 => 0xB525FE56#32
  | 41 => 0x351C2B08#32
  | 42 => 0xB51339CD#32
  | 43 => 0x350B1097#32
  | 44 => 0xB50398F7#32
  | 45 => 0x34F97F13#32
  | 46 => 0xB4ECE6F7#32
  | 47 => 0x34E14C49#32
  | 48 => 0xB4D69568#32
  | 49 => 0x34CCABDA#32
  | 50 => 0xB4C37BD6#32
  | 51 => 0x34BAF3E5#32
  | 52 => 0xB4B30492#32
  | 53 => 0x34ABA023#32
  | 54 => 0xB4A4BA5F#32
  | 55 => 0x349E485F#32
  | 56 => 0xB4984061#32
  | 57 => 0x349299A5#32
  | 58 => 0xB48D4C4D#32
  | 59 => 0x34885143#32
  | 60 => 0xB483A221#32
  | 61 => 0x347E723F#32
  | 62 => 0xB4762200#32
  | 63 => 0x346E49FF#32
  | 64 => 0xB466E193#32
  | 65 => 0x345FE0DA#32
  | 66 => 0xB45940A1#32
  | 67 => 0x3452FA51#32
  | 68 => 0xB44D07E6#32
  | 69 => 0x344763DA#32
  | 70 => 0xB4420919#32
  | 71 => 0x343CF2FA#32
  | 72 => 0xB4381D32#32
  | 73 => 0x343383CC#32
  | 74 => 0xB42F2322#32
  | 75 => 0x342AF7D2#32
  | 76 => 0xB426FEBD#32
  | 77 => 0x342334FF#32
  | 78 => 0xB41F97EA#32
  | 79 => 0x341C2500#32
  | 80 => 0xB418D9F0#32
  | 81 => 0x3415B495#32
  | 82 => 0xB412B2ED#32
  | 83 => 0x340FD31A#32
  | 84 => 0xB40D1360#32
  | 85 => 0x340A721F#32
  | 86 => 0xB407EDD1#32
  | 87 => 0x3405850C#32
  | 88 => 0xB403367C#32
  | 89 => 0x340100E3#32
  | 90 => 0xB3FDC62E#32
  | 91 => 0x33F9B800#32
  | 92 => 0xB3F5D532#32
  | 93 => 0x33F21BD6#32
  | 94 => 0xB3EE8A1F#32
  | 95 => 0x33EB1E5A#32
  | 96 => 0xB3E7D6EF#32
  | 97 => 0x33E4B25D#32
  | 98 => 0xB3E1AF3D#32
  | 99 => 0x33DECC38#32
  | 100 => 0xB3DC0810#32
  | 101 => 0x33D96196#32
  | 102 => 0xB3D6D7AE#32
  | 103 => 0x33D4694B#32
  | 104 => 0xB3D21572#32
  | 105 => 0x33CFDB34#32
  | 106 => 0xB3CDB9B1#32
  | 107 => 0x33CBB015#32
  | 108 => 0xB3C9BD97#32
  | 109 => 0x33C7E17D#32
  | 110 => 0xB3C61B15#32
  | 111 => 0x33C469B8#32
  | 112 => 0xB3C2CCC7#32
  | 113 => 0x33C143B0#32
  | 114 => 0xB3BFCDE6#32
  | 115 => 0x33BE6AE7#32
  | 116 => 0xB3BD1A36#32
  | 117 => 0x33BBDB61#32
  | 118 => 0xB3BAADFB#32
  | 119 => 0x33B9919E#32
  | 120 => 0xB3B885EC#32
  | 121 => 0x33B78A8A#32
  | 122 => 0xB3B69F28#32
  | 123 => 0x33B5C377#32
  | 124 => 0xB3B4F732#32
  | 125 => 0x33B43A15#32
  | 126 => 0xB3B38BE5#32
  | 127 => 0x33B2EC6A#32
  | _ => 0#32

noncomputable abbrev lit0t0_278 (i : Nat) : BitVec 32 := match i % 128 with
  | 0 => 0x33B2EC6A#32
  | 1 => 0xB3B25B72#32
  | 2 => 0x33B1D8CF#32
  | 3 => 0xB3B16459#32
  | 4 => 0x33B0FDEA#32
  | 5 => 0xB3B0A563#32
  | 6 => 0x33B05AA9#32
  | 7 => 0xB3B01DA5#32
  | 8 => 0x33AFEE43#32
  | 9 => 0xB3AFCC75#32
  | 10 => 0x33AFB831#32
  | 11 => 0xB3AFB170#32
  | 12 => 0x33AFB831#32
  | 13 => 0xB3AFCC75#32
  | 14 => 0x33AFEE43#32
  | 15 => 0xB3B01DA5#32
  | 16 => 0x33B05AA9#32
  | 17 => 0xB3B0A563#32
  | 18 => 0x33B0FDEA#32
  | 19 => 0xB3B16459#32
  | 20 => 0x33B1D8CF#32
  | 21 => 0xB3B25B72#32
  | 22 => 0x33B2EC6A#32
  | 23 => 0xB3B38BE5#32
  | 24 => 0x33B43A15#32
  | 25 => 0xB3B4F732#32
  | 26 => 0x33B5C377#32
  | 27 => 0xB3B69F28#32
  | 28 => 0x33B78A8A#32
  | 29 => 0xB3B885EC#32
  | 30 => 0x33B9919E#32
  | 31 => 0xB3BAADFB#32
  | 32 => 0x33BBDB61#32
  | 33 => 0xB3BD1A36#32
  | 34 => 0x33BE6AE7#32
  | 35 => 0xB3BFCDE6#32
  | 36 => 0x33C143B0#32
  | 37 => 0xB3C2CCC7#32
  | 38 => 0x33C469B8#32
  | 39 => 0xB3C61B15#32
  | 40 => 0x33C7E17D#32
  | 41 => 0xB3C9BD97#32
  | 42 => 0x33CBB015#32
  | 43 => 0xB3CDB9B1#32
  | 44 => 0x33CFDB34#32
  | 45 => 0xB3D21572#32
  | 46 => 0x33D4694B#32
  | 47 => 0xB3D6D7AE#32
  | 48 => 0x33D96196#32
  | 49 => 0xB3DC0810#32
  | 50 => 0x33DECC38#32
  | 51 => 0xB3E1AF3D#32
  | 52 => 0x33E4B25D#32
  | 53 => 0xB3E7D6EF#32
  | 54 => 0x33EB1E5A#32
  | 55 => 0xB3EE8A1F#32
  | 56 => 0x33F21BD6#32
  | 57 => 0xB3F5D532#32
  | 58 => 0x33F9B800#32
  | 59 => 0xB3FDC62E#32
  | 60 => 0x340100E3#32
  | 61 => 0xB403367C#32
  | 62 => 0x3405850C#32
  | 63 => 0xB407EDD1#32
  | 64 => 0x340A721F#32
  | 65 => 0xB40D1360#32
  | 66 => 0x340FD31A#32
  | 67 => 0xB412B2ED#32
  | 68 => 0x3415B495#32
  | 69 => 0xB418D9F0#32
  | 70 => 0x341C2500#32
  | 71 => 0xB41F97EA#32
  | 72 => 0x342334FF#32
  | 73 => 0xB426FEBD#32
  | 74 => 0x342AF7D2#32
  | 75 => 0xB42F2322#32
  | 76 => 0x343383CC#32
  | 77 => 0xB4381D32#32
  | 78 => 0x343CF2FA#32
  | 79 => 0xB4420919#32
  | 80 => 0x344763DA#32
  | 81 => 0xB44D07E6#32
  | 82 => 0x3452FA51#32
  | 83 => 0xB45940A1#32
  | 84 => 0x345FE0DA#32
  | 85 => 0xB466E193#32
  | 86 => 0x346E49FF#32
  | 87 => 0xB4762200#32
  | 88 => 0x347E723F#32
  | 89 => 0xB483A221#32
  | 90 => 0x34885143#32
  | 91 => 0xB48D4C4D#32
  | 92 => 0x349299A5#32
  | 93 => 0xB4984061#32
  | 94 => 0x349E485F#32
  | 95 => 0xB4A4BA5F#32
  | 96 => 0x34ABA023#32
  | 97 => 0xB4B30492#32
  | 98 => 0x34BAF3E5#32
  | 99 => 0xB4C37BD6#32
  | 100 => 0x34CCABDA#32
  | 101 => 0xB4D69568#32
  | 102 => 0x34E14C49#32
  | 103 => 0xB4ECE6F7#32
  | 104 => 0x34F97F13#32
  | 105 => 0xB50398F7#32
  | 106 => 0x350B1097#32
  | 107 => 0xB51339CD#32
  | 108 => 0x351C2B08#32
  | 109 => 0xB525FE56#32
  | 110 => 0x3530D21D#32
  | 111 => 0xB53CCA00#32
  | 112 => 0x354A0FF9#32
  | 113 => 0xB558D5BB#32
  | 114 => 0x35695670#32
  | 115 => 0xB57BD8F1#32
  | 116 => 0x3588594C#32
  | 117 => 0xB5942572#32
  | 118 => 0x35A19018#32
  | 119 => 0xB5B0E6EF#32
  | 120 => 0x35C28A3B#32
  | 121 => 0xB5D6F23A#32
  | 122 => 0x35EEB658#32
  | 123 => 0xB6054B76#32
  | 124 => 0x3615C529#32
  | 125 => 0xB6296767#32
  | 126 => 0x3641014B#32
  | 127 => 0xB65DA20C#32
  | _ => 0#32

noncomputable abbrev lit0t0_279 (i : Nat) : BitVec 32 := match i % 128 with
  | 0 => 0x368056F2#32
  | 1 => 0xB695FBC4#32
  | 2 => 0x36B0ED61#32
  | 3 => 0xB6D29E9B#32
  | 4 => 0x36FFBDB2#32
  | 5 => 0xB692EE32#32
  | 6 => 0x391EBB1A#32
  | 7 => 0x3B12D0DF#32
  | 8 => 0x3CA0086D#32
  | 9 => 0x3DBAD58B#32
  | 10 => 0x3E6BB748#32
  | 11 => 0x3EA069FE#32
  | 12 => 0x3E6BB748#32
  | 13 => 0x3DBAD58B#32
  | 14 => 0x3CA0086D#32
  | 15 => 0x3B12D0DF#32
  | 16 => 0x391EBB1A#32
  | 17 => 0xB692EE32#32
  | 18 => 0x36FFBDB2#32
  | 19 => 0xB6D29E9B#32
  | 20 => 0x36B0ED61#32
  | 21 => 0xB695FBC4#32
  | 22 => 0x368056F2#32
  | 23 => 0xB65DA20C#32
  | 24 => 0x3641014B#32
  | 25 => 0xB6296767#32
  | 26 => 0x3615C529#32
  | 27 => 0xB6054B76#32
  | 28 => 0x35EEB658#32
  | 29 => 0xB5D6F23A#32
  | 30 => 0x35C28A3B#32
  | 31 => 0xB5B0E6EF#32
  | 32 => 0x35A19018#32
  | 33 => 0xB5942572#32
  | 34 => 0x3588594C#32
  | 35 => 0xB57BD8F1#32
  | 36 => 0x35695670#32
  | 37 => 0xB558D5BB#32
  | 38 => 0x354A0FF9#32
  | 39 => 0xB53CCA00#32
  | 40 => 0x3530D21D#32
  | 41 => 0xB525FE56#32
  | 42 => 0x351C2B08#32
  | 43 => 0xB51339CD#32
  | 44 => 0x350B1097#32
  | 45 => 0xB50398F7#32
  | 46 => 0x34F97F13#32
  | 47 => 0xB4ECE6F7#32
  | 48 => 0x34E14C49#32
  | 49 => 0xB4D69568#32
  | 50 => 0x34CCABDA#32
  | 51 => 0xB4C37BD6#32
  | 52 => 0x34BAF3E5#32
  | 53 => 0xB4B30492#32
  | 54 => 0x34ABA023#32
  | 55 => 0xB4A4BA5F#32
  | 56 => 0x349E485F#32
  | 57 => 0xB4984061#32
  | 58 => 0x349299A5#32
  | 59 => 0xB48D4C4D#32
  | 60 => 0x34885142#32
  | 61 => 0xB483A221#32
  | 62 => 0x347E723F#32
  | 63 => 0xB4762200#32
  | 64 => 0x346E49FF#32
  | 65 => 0xB466E193#32
  | 66 => 0x345FE0DA#32
  | 67 => 0xB45940A1#32
  | 68 => 0x3452FA51#32
  | 69 => 0xB44D07E6#32
  | 70 => 0x344763DA#32
  | 71 => 0xB4420919#32
  | 72 => 0x343CF2FA#32
  | 73 => 0xB4381D32#32
  | 74 => 0x343383CC#32
  | 75 => 0xB42F2322#32
  | 76 => 0x342AF7D2#32
  | 77 => 0xB426FEBD#32
  | 78 => 0x342334FF#32
  | 79 => 0xB41F97EA#32
  | 80 => 0x341C2500#32
  | 81 => 0xB418D9F0#32
  | 82 => 0x3415B495#32
  | 83 => 0xB412B2ED#32
  | 84 => 0x340FD31A#32
  | 85 => 0xB40D1360#32
  | 86 => 0x340A721F#32
  | 87 => 0xB407EDD1#32
  | 88 => 0x3405850C#32
  | 89 => 0xB403367C#32
  | 90 => 0x340100E3#32
  | 91 => 0xB3FDC62E#32
  | 92 => 0x33F9B800#32
  | 93 => 0xB3F5D532#32
  | 94 => 0x33F21BD6#32
  | 95 => 0xB3EE8A1F#32
  | 96 => 0x33EB1E5A#32
  | 97 => 0xB3E7D6EF#32
  | 98 => 0x33E4B25D#32
  | 99 => 0xB3E1AF3D#32
  | 100 => 0x33DECC38#32
  | 101 => 0xB3DC0810#32
  | 102 => 0x33D96196#32
  | 103 => 0xB3D6D7AE#32
  | 104 => 0x33D4694B#32
  | 105 => 0xB3D21572#32
  | 106 => 0x33CFDB34#32
  | 107 => 0xB3CDB9B1#32
  | 108 => 0x33CBB015#32
  | 109 => 0xB3C9BD97#32
  | 110 => 0x33C7E17D#32
  | 111 => 0xB3C61B15#32
  | 112 => 0x33C469B8#32
  | 113 => 0xB3C2CCC7#32
  | 114 => 0x33C143B0#32
  | 115 => 0xB3BFCDE6#32
  | 116 => 0x33BE6AE7#32
  | 117 => 0xB3BD1A36#32
  | 118 => 0x33BBDB61#32
  | 119 => 0xB3BAADFB#32
  | 120 => 0x33B9919E#32
  | 121 => 0xB3B885EC#32
  | 122 => 0x33B78A8A#32
  | 123 => 0xB3B69F28#32
  | 124 => 0x33B5C377#32
  | 125 => 0xB3B4F732#32
  | 126 => 0x33B43A15#32
  | 127 => 0xB3B38BE5#32
  | _ => 0#32

noncomputable abbrev lit0t0_280 (i : Nat) : BitVec 32 := match i % 128 with
  | 0 => 0xB3B38BE5#32
  | 1 => 0x33B2EC6A#32
  | 2 => 0xB3B25B72#32
  | 3 => 0x33B1D8CF#32
  | 4 => 0xB3B16459#32
  | 5 => 0x33B0FDEA#32
  | 6 => 0xB3B0A563#32
  | 7 => 0x33B05AA9#32
  | 8 => 0xB3B01DA5#32
  | 9 => 0x33AFEE43#32
  | 10 => 0xB3AFCC75#32
  | 11 => 0x33AFB831#32
  | 12 => 0xB3AFB170#32
  | 13 => 0x33AFB831#32
  | 14 => 0xB3AFCC75#32
  | 15 => 0x33AFEE43#32
  | 16 => 0xB3B01DA5#32
  | 17 => 0x33B05AA9#32
  | 18 => 0xB3B0A563#32
  | 19 => 0x33B0FDEA#32
  | 20 => 0xB3B16459#32
  | 21 => 0x33B1D8CF#32
  | 22 => 0xB3B25B72#32
  | 23 => 0x33B2EC6A#32
  | 24 => 0xB3B38BE5#32
  | 25 => 0x33B43A15#32
  | 26 => 0xB3B4F732#32
  | 27 => 0x33B5C377#32
  | 28 => 0xB3B69F28#32
  | 29 => 0x33B78A8A#32
  | 30 => 0xB3B885EC#32
  | 31 => 0x33B9919E#32
  | 32 => 0xB3BAADFB#32
  | 33 => 0x33BBDB61#32
  | 34 => 0xB3BD1A36#32
  | 35 => 0x33BE6AE7#32
  | 36 => 0xB3BFCDE6#32
  | 37 => 0x33C143B0#32
  | 38 => 0xB3C2CCC7#32
  | 39 => 0x33C469B8#32
  | 40 => 0xB3C61B15#32
  | 41 => 0x33C7E17D#32
  | 42 => 0xB3C9BD97#32
  | 43 => 0x33CBB015#32
  | 44 => 0xB3CDB9B1#32
  | 45 => 0x33CFDB34#32
  | 46 => 0xB3D21572#32
  | 47 => 0x33D4694B#32
  | 48 => 0xB3D6D7AE#32
  | 49 => 0x33D96196#32
  | 50 => 0xB3DC0810#32
  | 51 => 0x33DECC38#32
  | 52 => 0xB3E1AF3D#32
  | 53 => 0x33E4B25D#32
  | 54 => 0xB3E7D6EF#32
  | 55 => 0x33EB1E5A#32
  | 56 => 0xB3EE8A1F#32
  | 57 => 0x33F21BD6#32
  | 58 => 0xB3F5D532#32
  | 59 => 0x33F9B800#32
  | 60 => 0xB3FDC62E#32
  | 61 => 0x340100E3#32
  | 62 => 0xB403367C#32
  | 63 => 0x3405850C#32
  | 64 => 0xB407EDD1#32
  | 65 => 0x340A721F#32
  | 66 => 0xB40D1360#32
  | 67 => 0x340FD31A#32
  | 68 => 0xB412B2ED#32
  | 69 => 0x3415B495#32
  | 70 => 0xB418D9F0#32
  | 71 => 0x341C2500#32
  | 72 => 0xB41F97EA#32
  | 73 => 0x342334FF#32
  | 74 => 0xB426FEBD#32
  | 75 => 0x342AF7D2#32
  | 76 => 0xB42F2322#32
  | 77 => 0x343383CC#32
  | 78 => 0xB4381D32#32
  | 79 => 0x343CF2FA#32
  | 80 => 0xB4420919#32
  | 81 => 0x344763DA#32
  | 82 => 0xB44D07E6#32
  | 83 => 0x3452FA51#32
  | 84 => 0xB45940A1#32
  | 85 => 0x345FE0DA#32
  | 86 => 0xB466E193#32
  | 87 => 0x346E49FF#32
  | 88 => 0xB4762200#32
  | 89 => 0x347E723F#32
  | 90 => 0xB483A221#32
  | 91 => 0x34885142#32
  | 92 => 0xB48D4C4D#32
  | 93 => 0x349299A5#32
  | 94 => 0xB4984061#32
  | 95 => 0x349E485F#32
  | 96 => 0xB4A4BA5F#32
  | 97 => 0x34ABA023#32
  | 98 => 0xB4B30492#32
  | 99 => 0x34BAF3E5#32
  | 100 => 0xB4C37BD6#32
  | 101 => 0x34CCABDA#32
  | 102 => 0xB4D69568#32
  | 103 => 0x34E14C49#32
  | 104 => 0xB4ECE6F7#32
  | 105 => 0x34F97F13#32
  | 106 => 0xB50398F7#32
  | 107 => 0x350B1097#32
  | 108 => 0xB51339CD#32
  | 109 => 0x351C2B08#32
  | 110 => 0xB525FE56#32
  | 111 => 0x3530D21D#32
  | 112 => 0xB53CCA00#32
  | 113 => 0x354A0FF9#32
  | 114 => 0xB558D5BB#32
  | 115 => 0x35695670#32
  | 116 => 0xB57BD8F1#32
  | 117 => 0x3588594C#32
  | 118 => 0xB5942572#32
  | 119 => 0x35A19018#32
  | 120 => 0xB5B0E6EF#32
  | 121 => 0x35C28A3B#32
  | 122 => 0xB5D6F23A#32
  | 123 => 0x35EEB658#32
  | 124 => 0xB6054B76#32
  | 125 => 0x3615C529#32
  | 126 => 0xB6296767#32
  | 127 => 0x3641014B#32
  | _ => 0#32

noncomputable abbrev lit0t0_281 (i : Nat) : BitVec 32 := match i % 128 with
  | 0 => 0xB65DA20C#32
  | 1 => 0x368056F2#32
  | 2 => 0xB695FBC4#32
  | 3 => 0x36B0ED61#32
  | 4 => 0xB6D29E9B#32
  | 5 => 0x36FFBDB2#32
  | 6 => 0xB692EE32#32
  | 7 => 0x391EBB1A#32
  | 8 => 0x3B12D0DF#32
  | 9 => 0x3CA0086D#32
  | 10 => 0x3DBAD58B#32
  | 11 => 0x3E6BB748#32
  | 12 => 0x3EA069FE#32
  | 13 => 0x3E6BB748#32
  | 14 => 0x3DBAD58B#32
  | 15 => 0x3CA0086D#32
  | 16 => 0x3B12D0DF#32
  | 17 => 0x391EBB1A#32
  | 18 => 0xB692EE32#32
  | 19 => 0x36FFBDB2#32
  | 20 => 0xB6D29E9B#32
  | 21 => 0x36B0ED61#32
  | 22 => 0xB695FBC4#32
  | 23 => 0x368056F2#32
  | 24 => 0xB65DA20C#32
  | 25 => 0x3641014B#32
  | 26 => 0xB6296767#32
  | 27 => 0x3615C529#32
  | 28 => 0xB6054B76#32
  | 29 => 0x35EEB658#32
  | 30 => 0xB5D6F23A#32
  | 31 => 0x35C28A3B#32
  | 32 => 0xB5B0E6EF#32
  | 33 => 0x35A19018#32
  | 34 => 0xB5942572#32
  | 35 => 0x3588594C#32
  | 36 => 0xB57BD8F1#32
  | 37 => 0x35695670#32
  | 38 => 0xB558D5BB#32
  | 39 => 0x354A0FF9#32
  | 40 => 0xB53CCA00#32
  | 41 => 0x3530D21D#32
  | 42 => 0xB525FE56#32
  | 43 => 0x351C2B08#32
  | 44 => 0xB51339CD#32
  | 45 => 0x350B1097#32
  | 46 => 0xB50398F7#32
  | 47 => 0x34F97F13#32
  | 48 => 0xB4ECE6F7#32
  | 49 => 0x34E14C49#32
  | 50 => 0xB4D69568#32
  | 51 => 0x34CCABDA#32
  | 52 => 0xB4C37BD6#32
  | 53 => 0x34BAF3E5#32
  | 54 => 0xB4B30492#32
  | 55 => 0x34ABA023#32
  | 56 => 0xB4A4BA5F#32
  | 57 => 0x349E485F#32
  | 58 => 0xB4984061#32
  | 59 => 0x349299A5#32
  | 60 => 0xB48D4C4D#32
  | 61 => 0x34885142#32
  | 62 => 0xB483A221#32
  | 63 => 0x347E723F#32
  | 64 => 0xB4762200#32
  | 65 => 0x346E49FF#32
  | 66 => 0xB466E193#32
  | 67 => 0x345FE0DA#32
  | 68 => 0xB45940A1#32
  | 69 => 0x3452FA51#32
  | 70 => 0xB44D07E6#32
  | 71 => 0x344763DA#32
  | 72 => 0xB4420919#32
  | 73 => 0x343CF2FA#32
  | 74 => 0xB4381D32#32
  | 75 => 0x343383CC#32
  | 76 => 0xB42F2322#32
  | 77 => 0x342AF7D2#32
  | 78 => 0xB426FEBD#32
  | 79 => 0x342334FF#32
  | 80 => 0xB41F97EA#32
  | 81 => 0x341C2500#32
  | 82 => 0xB418D9F0#32
  | 83 => 0x3415B495#32
  | 84 => 0xB412B2ED#32
  | 85 => 0x340FD31A#32
  | 86 => 0xB40D1360#32
  | 87 => 0x340A721F#32
  | 88 => 0xB407EDD1#32
  | 89 => 0x3405850C#32
  | 90 => 0xB403367C#32
  | 91 => 0x340100E3#32
  | 92 => 0xB3FDC62E#32
  | 93 => 0x33F9B800#32
  | 94 => 0xB3F5D532#32
  | 95 => 0x33F21BD6#32
  | 96 => 0xB3EE8A1F#32
  | 97 => 0x33EB1E5A#32
  | 98 => 0xB3E7D6EF#32
  | 99 => 0x33E4B25D#32
  | 100 => 0xB3E1AF3D#32
  | 101 => 0x33DECC38#32
  | 102 => 0xB3DC0810#32
  | 103 => 0x33D96196#32
  | 104 => 0xB3D6D7AE#32
  | 105 => 0x33D4694B#32
  | 106 => 0xB3D21572#32
  | 107 => 0x33CFDB34#32
  | 108 => 0xB3CDB9B1#32
  | 109 => 0x33CBB015#32
  | 110 => 0xB3C9BD97#32
  | 111 => 0x33C7E17D#32
  | 112 => 0xB3C61B15#32
  | 113 => 0x33C469B8#32
  | 114 => 0xB3C2CCC7#32
  | 115 => 0x33C143B0#32
  | 116 => 0xB3BFCDE6#32
  | 117 => 0x33BE6AE7#32
  | 118 => 0xB3BD1A36#32
  | 119 => 0x33BBDB61#32
  | 120 => 0xB3BAADFB#32
  | 121 => 0x33B9919E#32
  | 122 => 0xB3B885EC#32
  | 123 => 0x33B78A8A#32
  | 124 => 0xB3B69F28#32
  | 125 => 0x33B5C377#32
  | 126 => 0xB3B4F732#32
  | 127 => 0x33B43A15#32
  | _ => 0#32

noncomputable abbrev lit0t0_282 (i : Nat) : BitVec 32 := match i % 128 with
  | 0 => 0x33B43A15#32
  | 1 => 0xB3B38BE5#32
  | 2 => 0x33B2EC6A#32
  | 3 => 0xB3B25B72#32
  | 4 => 0x33B1D8CF#32
  | 5 => 0xB3B16459#32
  | 6 => 0x33B0FDEA#32
  | 7 => 0xB3B0A563#32
  | 8 => 0x33B05AA9#32
  | 9 => 0xB3B01DA5#32
  | 10 => 0x33AFEE43#32
  | 11 => 0xB3AFCC75#32
  | 12 => 0x33AFB831#32
  | 13 => 0xB3AFB170#32
  | 14 => 0x33AFB831#32
  | 15 => 0xB3AFCC75#32
  | 16 => 0x33AFEE43#32
  | 17 => 0xB3B01DA5#32
  | 18 => 0x33B05AA9#32
  | 19 => 0xB3B0A563#32
  | 20 => 0x33B0FDEA#32
  | 21 => 0xB3B16459#32
  | 22 => 0x33B1D8CF#32
  | 23 => 0xB3B25B72#32
  | 24 => 0x33B2EC6A#32
  | 25 => 0xB3B38BE5#32
  | 26 => 0x33B43A15#32
  | 27 => 0xB3B4F732#32
  | 28 => 0x33B5C377#32
  | 29 => 0xB3B69F28#32
  | 30 => 0x33B78A8A#32
  | 31 => 0xB3B885EC#32
  | 32 => 0x33B9919E#32
  | 33 => 0xB3BAADFB#32
  | 34 => 0x33BBDB61#32
  | 35 => 0xB3BD1A36#32
  | 36 => 0x33BE6AE7#32
  | 37 => 0xB3BFCDE6#32
  | 38 => 0x33C143B0#32
  | 39 => 0xB3C2CCC7#32
  | 40 => 0x33C469B8#32
  | 41 => 0xB3C61B15#32
  | 42 => 0x33C7E17D#32
  | 43 => 0xB3C9BD97#32
  | 44 => 0x33CBB015#32
  | 45 => 0xB3CDB9B1#32
  | 46 => 0x33CFDB34#32
  | 47 => 0xB3D21572#32
  | 48 => 0x33D4694B#32
  | 49 => 0xB3D6D7AE#32
  | 50 => 0x33D96196#32
  | 51 => 0xB3DC0810#32
  | 52 => 0x33DECC38#32
  | 53 => 0xB3E1AF3D#32
  | 54 => 0x33E4B25D#32
  | 55 => 0xB3E7D6EF#32
  | 56 => 0x33EB1E5A#32
  | 57 => 0xB3EE8A1F#32
  | 58 => 0x33F21BD6#32
  | 59 => 0xB3F5D532#32
  | 60 => 0x33F9B800#32
  | 61 => 0xB3FDC62E#32
  | 62 => 0x340100E3#32
  | 63 => 0xB403367C#32
  | 64 => 0x3405850C#32
  | 65 => 0xB407EDD1#32
  | 66 => 0x340A721F#32
  | 67 => 0xB40D1360#32
  | 68 => 0x340FD31A#32
  | 69 => 0xB412B2ED#32
  | 70 => 0x3415B495#32
  | 71 => 0xB418D9F0#32
  | 72 => 0x341C2500#32
  | 73 => 0xB41F97EA#32
  | 74 => 0x342334FF#32
  | 75 => 0xB426FEBD#32
  | 76 => 0x342AF7D2#32
  | 77 => 0xB42F2322#32
  | 78 => 0x343383CC#32
  | 79 => 0xB4381D32#32
  | 80 => 0x343CF2FA#32
  | 81 => 0xB4420919#32
  | 82 => 0x344763DA#32
  | 83 => 0xB44D07E6#32
  | 84 => 0x3452FA51#32
  | 85 => 0xB45940A1#32
  | 86 => 0x345FE0DA#32
  | 87 => 0xB466E193#32
  | 88 => 0x346E49FF#32
  | 89 => 0xB4762200#32
  | 90 => 0x347E723F#32
  | 91 => 0xB483A221#32
  | 92 => 0x34885142#32
  | 93 => 0xB48D4C4D#32
  | 94 => 0x349299A5#32
  | 95 => 0xB4984061#32
  | 96 => 0x349E485F#32
  | 97 => 0xB4A4BA5F#32
  | 98 => 0x34ABA023#32
  | 99 => 0xB4B30492#32
  | 100 => 0x34BAF3E5#32
  | 101 => 0xB4C37BD6#32
  | 102 => 0x34CCABDA#32
  | 103 => 0xB4D69568#32
  | 104 => 0x34E14C49#32
  | 105 => 0xB4ECE6F7#32
  | 106 => 0x34F97F13#32
  | 107 => 0xB50398F7#32
  | 108 => 0x350B1097#32
  | 109 => 0xB51339CD#32
  | 110 => 0x351C2B08#32
  | 111 => 0xB525FE56#32
  | 112 => 0x3530D21D#32
  | 113 => 0xB53CCA00#32
  | 114 => 0x354A0FF9#32
  | 115 => 0xB558D5BB#32
  | 116 => 0x35695670#32
  | 117 => 0xB57BD8F1#32
  | 118 => 0x3588594C#32
  | 119 => 0xB5942572#32
  | 120 => 0x35A19018#32
  | 121 => 0xB5B0E6EF#32
  | 122 => 0x35C28A3B#32
  | 123 => 0xB5D6F23A#32
  | 124 => 0x35EEB658#32
  | 125 => 0xB6054B76#32
  | 126 => 0x3615C529#32
  | 127 => 0xB6296767#32
  | _ => 0#32

noncomputable abbrev lit0t0_283 (i : Nat) : BitVec 32 := match i % 128 with
  | 0 => 0x3641014B#32
  | 1 => 0xB65DA20C#32
  | 2 => 0x368056F2#32
  | 3 => 0xB695FBC4#32
  | 4 => 0x36B0ED61#32
  | 5 => 0xB6D29E9B#32
  | 6 => 0x36FFBDB2#32
  | 7 => 0xB692EE32#32
  | 8 => 0x391EBB1A#32
  | 9 => 0x3B12D0DF#32
  | 10 => 0x3CA0086D#32
  | 11 => 0x3DBAD58B#32
  | 12 => 0x3E6BB748#32
  | 13 => 0x3EA069FE#32
  | 14 => 0x3E6BB748#32
  | 15 => 0x3DBAD58B#32
  | 16 => 0x3CA0086D#32
  | 17 => 0x3B12D0DF#32
  | 18 => 0x391EBB1A#32
  | 19 => 0xB692EE32#32
  | 20 => 0x36FFBDB2#32
  | 21 => 0xB6D29E9B#32
  | 22 => 0x36B0ED61#32
  | 23 => 0xB695FBC4#32
  | 24 => 0x368056F2#32
  | 25 => 0xB65DA20C#32
  | 26 => 0x3641014B#32
  | 27 => 0xB6296767#32
  | 28 => 0x3615C529#32
  | 29 => 0xB6054B76#32
  | 30 => 0x35EEB658#32
  | 31 => 0xB5D6F23A#32
  | 32 => 0x35C28A3B#32
  | 33 => 0xB5B0E6EF#32
  | 34 => 0x35A19018#32
  | 35 => 0xB5942572#32
  | 36 => 0x3588594C#32
  | 37 => 0xB57BD8F1#32
  | 38 => 0x35695670#32
  | 39 => 0xB558D5BB#32
  | 40 => 0x354A0FF9#32
  | 41 => 0xB53CCA00#32
  | 42 => 0x3530D21D#32
  | 43 => 0xB525FE56#32
  | 44 => 0x351C2B08#32
  | 45 => 0xB51339CD#32
  | 46 => 0x350B1097#32
  | 47 => 0xB50398F7#32
  | 48 => 0x34F97F13#32
  | 49 => 0xB4ECE6F7#32
  | 50 => 0x34E14C49#32
  | 51 => 0xB4D69568#32
  | 52 => 0x34CCABDA#32
  | 53 => 0xB4C37BD6#32
  | 54 => 0x34BAF3E5#32
  | 55 => 0xB4B30492#32
  | 56 => 0x34ABA023#32
  | 57 => 0xB4A4BA5F#32
  | 58 => 0x349E485F#32
  | 59 => 0xB4984061#32
  | 60 => 0x349299A5#32
  | 61 => 0xB48D4C4D#32
  | 62 => 0x34885142#32
  | 63 => 0xB483A221#32
  | 64 => 0x347E723F#32
  | 65 => 0xB4762200#32
  | 66 => 0x346E49FF#32
  | 67 => 0xB466E193#32
  | 68 => 0x345FE0DA#32
  | 69 => 0xB45940A1#32
  | 70 => 0x3452FA51#32
  | 71 => 0xB44D07E6#32
  | 72 => 0x344763DA#32
  | 73 => 0xB4420919#32
  | 74 => 0x343CF2FA#32
  | 75 => 0xB4381D32#32
  | 76 => 0x343383CC#32
  | 77 => 0xB42F2322#32
  | 78 => 0x342AF7D2#32
  | 79 => 0xB426FEBD#32
  | 80 => 0x342334FF#32
  | 81 => 0xB41F97EA#32
  | 82 => 0x341C2500#32
  | 83 => 0xB418D9F0#32
  | 84 => 0x3415B495#32
  | 85 => 0xB412B2ED#32
  | 86 => 0x340FD31A#32
  | 87 => 0xB40D1360#32
  | 88 => 0x340A721F#32
  | 89 => 0xB407EDD1#32
  | 90 => 0x3405850C#32
  | 91 => 0xB403367C#32
  | 92 => 0x340100E3#32
  | 93 => 0xB3FDC62E#32
  | 94 => 0x33F9B800#32
  | 95 => 0xB3F5D532#32
  | 96 => 0x33F21BD6#32
  | 97 => 0xB3EE8A1F#32
  | 98 => 0x33EB1E5A#32
  | 99 => 0xB3E7D6EF#32
  | 100 => 0x33E4B25D#32
  | 101 => 0xB3E1AF3D#32
  | 102 => 0x33DECC38#32
  | 103 => 0xB3DC0810#32
  | 104 => 0x33D96196#32
  | 105 => 0xB3D6D7AE#32
  | 106 => 0x33D4694B#32
  | 107 => 0xB3D21572#32
  | 108 => 0x33CFDB34#32
  | 109 => 0xB3CDB9B1#32
  | 110 => 0x33CBB015#32
  | 111 => 0xB3C9BD97#32
  | 112 => 0x33C7E17D#32
  | 113 => 0xB3C61B15#32
  | 114 => 0x33C469B8#32
  | 115 => 0xB3C2CCC7#32
  | 116 => 0x33C143B0#32
  | 117 => 0xB3BFCDE6#32
  | 118 => 0x33BE6AE7#32
  | 119 => 0xB3BD1A36#32
  | 120 => 0x33BBDB61#32
  | 121 => 0xB3BAADFB#32
  | 122 => 0x33B9919E#32
  | 123 => 0xB3B885EC#32
  | 124 => 0x33B78A8A#32
  | 125 => 0xB3B69F28#32
  | 126 => 0x33B5C377#32
  | 127 => 0xB3B4F732#32
  | _ => 0#32

noncomputable abbrev lit0t0_284 (i : Nat) : BitVec 32 := match i % 128 with
  | 0 => 0xB3B4F732#32
  | 1 => 0x33B43A15#32
  | 2 => 0xB3B38BE5#32
  | 3 => 0x33B2EC6A#32
  | 4 => 0xB3B25B72#32
  | 5 => 0x33B1D8CF#32
  | 6 => 0xB3B16459#32
  | 7 => 0x33B0FDEA#32
  | 8 => 0xB3B0A563#32
  | 9 => 0x33B05AA9#32
  | 10 => 0xB3B01DA5#32
  | 11 => 0x33AFEE43#32
  | 12 => 0xB3AFCC75#32
  | 13 => 0x33AFB831#32
  | 14 => 0xB3AFB170#32
  | 15 => 0x33AFB831#32
  | 16 => 0xB3AFCC75#32
  | 17 => 0x33AFEE43#32
  | 18 => 0xB3B01DA5#32
  | 19 => 0x33B05AA9#32
  | 20 => 0xB3B0A563#32
  | 21 => 0x33B0FDEA#32
  | 22 => 0xB3B16459#32
  | 23 => 0x33B1D8CF#32
  | 24 => 0xB3B25B72#32
  | 25 => 0x33B2EC6A#32
  | 26 => 0xB3B38BE5#32
  | 27 => 0x33B43A15#32
  | 28 => 0xB3B4F732#32
  | 29 => 0x33B5C377#32
  | 30 => 0xB3B69F28#32
  | 31 => 0x33B78A8A#32
  | 32 => 0xB3B885EC#32
  | 33 => 0x33B9919E#32
  | 34 => 0xB3BAADFB#32
  | 35 => 0x33BBDB61#32
  | 36 => 0xB3BD1A36#32
  | 37 => 0x33BE6AE7#32
  | 38 => 0xB3BFCDE6#32
  | 39 => 0x33C143B0#32
  | 40 => 0xB3C2CCC7#32
  | 41 => 0x33C469B8#32
  | 42 => 0xB3C61B15#32
  | 43 => 0x33C7E17D#32
  | 44 => 0xB3C9BD97#32
  | 45 => 0x33CBB015#32
  | 46 => 0xB3CDB9B1#32
  | 47 => 0x33CFDB34#32
  | 48 => 0xB3D21572#32
  | 49 => 0x33D4694B#32
  | 50 => 0xB3D6D7AE#32
  | 51 => 0x33D96196#32
  | 52 => 0xB3DC0810#32
  | 53 => 0x33DECC38#32
  | 54 => 0xB3E1AF3D#32
  | 55 => 0x33E4B25D#32
  | 56 => 0xB3E7D6EF#32
  | 57 => 0x33EB1E5A#32
  | 58 => 0xB3EE8A1F#32
  | 59 => 0x33F21BD6#32
  | 60 => 0xB3F5D532#32
  | 61 => 0x33F9B800#32
  | 62 => 0xB3FDC62E#32
  | 63 => 0x340100E3#32
  | 64 => 0xB403367C#32
  | 65 => 0x3405850C#32
  | 66 => 0xB407EDD1#32
  | 67 => 0x340A721F#32
  | 68 => 0xB40D1360#32
  | 69 => 0x340FD31A#32
  | 70 => 0xB412B2ED#32
  | 71 => 0x3415B495#32
  | 72 => 0xB418D9F0#32
  | 73 => 0x341C2500#32
  | 74 => 0xB41F97EA#32
  | 75 => 0x342334FF#32
  | 76 => 0xB426FEBD#32
  | 77 => 0x342AF7D2#32
  | 78 => 0xB42F2322#32
  | 79 => 0x343383CC#32
  | 80 => 0xB4381D32#32
  | 81 => 0x343CF2FA#32
  | 82 => 0xB4420919#32
  | 83 => 0x344763DA#32
  | 84 => 0xB44D07E6#32
  | 85 => 0x3452FA51#32
  | 86 => 0xB45940A1#32
  | 87 => 0x345FE0DA#32
  | 88 => 0xB466E193#32
  | 89 => 0x346E49FF#32
  | 90 => 0xB4762200#32
  | 91 => 0x347E723F#32
  | 92 => 0xB483A221#32
  | 93 => 0x34885142#32
  | 94 => 0xB48D4C4D#32
  | 95 => 0x349299A5#32
  | 96 => 0xB4984061#32
  | 97 => 0x349E485F#32
  | 98 => 0xB4A4BA5F#32
  | 99 => 0x34ABA023#32
  | 100 => 0xB4B30492#32
  | 101 => 0x34BAF3E5#32
  | 102 => 0xB4C37BD6#32
  | 103 => 0x34CCABDA#32
  | 104 => 0xB4D69568#32
  | 105 => 0x34E14C49#32
  | 106 => 0xB4ECE6F7#32
  | 107 => 0x34F97F13#32
  | 108 => 0xB50398F7#32
  | 109 => 0x350B1097#32
  | 110 => 0xB51339CD#32
  | 111 => 0x351C2B08#32
  | 112 => 0xB525FE56#32
  | 113 => 0x3530D21D#32
  | 114 => 0xB53CCA00#32
  | 115 => 0x354A0FF9#32
  | 116 => 0xB558D5BB#32
  | 117 => 0x35695670#32
  | 118 => 0xB57BD8F1#32
  | 119 => 0x3588594C#32
  | 120 => 0xB5942572#32
  | 121 => 0x35A19018#32
  | 122 => 0xB5B0E6EF#32
  | 123 => 0x35C28A3B#32
  | 124 => 0xB5D6F23A#32
  | 125 => 0x35EEB658#32
  | 126 => 0xB6054B76#32
  | 127 => 0x3615C529#32
  | _ => 0#32

noncomputable abbrev lit0t0_285 (i : Nat) : BitVec 32 := match i % 128 with
  | 0 => 0xB6296767#32
  | 1 => 0x3641014B#32
  | 2 => 0xB65DA20C#32
  | 3 => 0x368056F2#32
  | 4 => 0xB695FBC4#32
  | 5 => 0x36B0ED61#32
  | 6 => 0xB6D29E9B#32
  | 7 => 0x36FFBDB2#32
  | 8 => 0xB692EE32#32
  | 9 => 0x391EBB1A#32
  | 10 => 0x3B12D0DF#32
  | 11 => 0x3CA0086D#32
  | 12 => 0x3DBAD58B#32
  | 13 => 0x3E6BB748#32
  | 14 => 0x3EA069FE#32
  | 15 => 0x3E6BB748#32
  | 16 => 0x3DBAD58B#32
  | 17 => 0x3CA0086D#32
  | 18 => 0x3B12D0DF#32
  | 19 => 0x391EBB1A#32
  | 20 => 0xB692EE32#32
  | 21 => 0x36FFBDB2#32
  | 22 => 0xB6D29E9B#32
  | 23 => 0x36B0ED61#32
  | 24 => 0xB695FBC4#32
  | 25 => 0x368056F2#32
  | 26 => 0xB65DA20C#32
  | 27 => 0x3641014B#32
  | 28 => 0xB6296767#32
  | 29 => 0x3615C529#32
  | 30 => 0xB6054B76#32
  | 31 => 0x35EEB658#32
  | 32 => 0xB5D6F23A#32
  | 33 => 0x35C28A3B#32
  | 34 => 0xB5B0E6EF#32
  | 35 => 0x35A19018#32
  | 36 => 0xB5942572#32
  | 37 => 0x3588594C#32
  | 38 => 0xB57BD8F1#32
  | 39 => 0x35695670#32
  | 40 => 0xB558D5BB#32
  | 41 => 0x354A0FF9#32
  | 42 => 0xB53CCA00#32
  | 43 => 0x3530D21D#32
  | 44 => 0xB525FE56#32
  | 45 => 0x351C2B08#32
  | 46 => 0xB51339CD#32
  | 47 => 0x350B1097#32
  | 48 => 0xB50398F7#32
  | 49 => 0x34F97F13#32
  | 50 => 0xB4ECE6F7#32
  | 51 => 0x34E14C49#32
  | 52 => 0xB4D69568#32
  | 53 => 0x34CCABDA#32
  | 54 => 0xB4C37BD6#32
  | 55 => 0x34BAF3E5#32
  | 56 => 0xB4B30492#32
  | 57 => 0x34ABA023#32
  | 58 => 0xB4A4BA5F#32
  | 59 => 0x349E485F#32
  | 60 => 0xB4984061#32
  | 61 => 0x349299A5#32
  | 62 => 0xB48D4C4D#32
  | 63 => 0x34885143#32
  | 64 => 0xB483A221#32
  | 65 => 0x347E723F#32
  | 66 => 0xB4762200#32
  | 67 => 0x346E49FF#32
  | 68 => 0xB466E193#32
  | 69 => 0x345FE0DA#32
  | 70 => 0xB45940A1#32
  | 71 => 0x3452FA51#32
  | 72 => 0xB44D07E6#32
  | 73 => 0x344763DA#32
  | 74 => 0xB4420919#32
  | 75 => 0x343CF2FA#32
  | 76 => 0xB4381D32#32
  | 77 => 0x343383CC#32
  | 78 => 0xB42F2322#32
  | 79 => 0x342AF7D2#32
  | 80 => 0xB426FEBD#32
  | 81 => 0x342334FF#32
  | 82 => 0xB41F97EA#32
  | 83 => 0x341C2500#32
  | 84 => 0xB418D9F0#32
  | 85 => 0x3415B495#32
  | 86 => 0xB412B2ED#32
  | 87 => 0x340FD31A#32
  | 88 => 0xB40D1360#32
  | 89 => 0x340A721F#32
  | 90 => 0xB407EDD1#32
  | 91 => 0x3405850C#32
  | 92 => 0xB403367C#32
  | 93 => 0x340100E3#32
  | 94 => 0xB3FDC62E#32
  | 95 => 0x33F9B800#32
  | 96 => 0xB3F5D532#32
  | 97 => 0x33F21BD6#32
  | 98 => 0xB3EE8A1F#32
  | 99 => 0x33EB1E5A#32
  | 100 => 0xB3E7D6EF#32
  | 101 => 0x33E4B25D#32
  | 102 => 0xB3E1AF3D#32
  | 103 => 0x33DECC38#32
  | 104 => 0xB3DC0810#32
  | 105 => 0x33D96196#32
  | 106 => 0xB3D6D7AE#32
  | 107 => 0x33D4694B#32
  | 108 => 0xB3D21572#32
  | 109 => 0x33CFDB34#32
  | 110 => 0xB3CDB9B1#32
  | 111 => 0x33CBB015#32
  | 112 => 0xB3C9BD97#32
  | 113 => 0x33C7E17D#32
  | 114 => 0xB3C61B15#32
  | 115 => 0x33C469B8#32
  | 116 => 0xB3C2CCC7#32
  | 117 => 0x33C143B0#32
  | 118 => 0xB3BFCDE6#32
  | 119 => 0x33BE6AE7#32
  | 120 => 0xB3BD1A36#32
  | 121 => 0x33BBDB61#32
  | 122 => 0xB3BAADFB#32
  | 123 => 0x33B9919E#32
  | 124 => 0xB3B885EC#32
  | 125 => 0x33B78A8A#32
  | 126 => 0xB3B69F28#32
  | 127 => 0x33B5C377#32
  | _ => 0#32

noncomputable abbrev lit0t0_286 (i : Nat) : BitVec 32 := match i % 128 with
  | 0 => 0x33B5C377#32
  | 1 => 0xB3B4F732#32
  | 2 => 0x33B43A15#32
  | 3 => 0xB3B38BE5#32
  | 4 => 0x33B2EC6A#32
  | 5 => 0xB3B25B72#32
  | 6 => 0x33B1D8CF#32
  | 7 => 0xB3B16459#32
  | 8 => 0x33B0FDEA#32
  | 9 => 0xB3B0A563#32
  | 10 => 0x33B05AA9#32
  | 11 => 0xB3B01DA5#32
  | 12 => 0x33AFEE43#32
  | 13 => 0xB3AFCC75#32
  | 14 => 0x33AFB831#32
  | 15 => 0xB3AFB170#32
  | 16 => 0x33AFB831#32
  | 17 => 0xB3AFCC75#32
  | 18 => 0x33AFEE43#32
  | 19 => 0xB3B01DA5#32
  | 20 => 0x33B05AA9#32
  | 21 => 0xB3B0A563#32
  | 22 => 0x33B0FDEA#32
  | 23 => 0xB3B16459#32
  | 24 => 0x33B1D8CF#32
  | 25 => 0xB3B25B72#32
  | 26 => 0x33B2EC6A#32
  | 27 => 0xB3B38BE5#32
  | 28 => 0x33B43A15#32
  | 29 => 0xB3B4F732#32
  | 30 => 0x33B5C377#32
  | 31 => 0xB3B69F28#32
  | 32 => 0x33B78A8A#32
  | 33 => 0xB3B885EC#32
  | 34 => 0x33B9919E#32
  | 35 => 0xB3BAADFB#32
  | 36 => 0x33BBDB61#32
  | 37 => 0xB3BD1A36#32
  | 38 => 0x33BE6AE7#32
  | 39 => 0xB3BFCDE6#32
  | 40 => 0x33C143B0#32
  | 41 => 0xB3C2CCC7#32
  | 42 => 0x33C469B8#32
  | 43 => 0xB3C61B15#32
  | 44 => 0x33C7E17D#32
  | 45 => 0xB3C9BD97#32
  | 46 => 0x33CBB015#32
  | 47 => 0xB3CDB9B1#32
  | 48 => 0x33CFDB34#32
  | 49 => 0xB3D21572#32
  | 50 => 0x33D4694B#32
  | 51 => 0xB3D6D7AE#32
  | 52 => 0x33D96196#32
  | 53 => 0xB3DC0810#32
  | 54 => 0x33DECC38#32
  | 55 => 0xB3E1AF3D#32
  | 56 => 0x33E4B25D#32
  | 57 => 0xB3E7D6EF#32
  | 58 => 0x33EB1E5A#32
  | 59 => 0xB3EE8A1F#32
  | 60 => 0x33F21BD6#32
  | 61 => 0xB3F5D532#32
  | 62 => 0x33F9B800#32
  | 63 => 0xB3FDC62E#32
  | 64 => 0x340100E3#32
  | 65 => 0xB403367C#32
  | 66 => 0x3405850C#32
  | 67 => 0xB407EDD1#32
  | 68 => 0x340A721F#32
  | 69 => 0xB40D1360#32
  | 70 => 0x340FD31A#32
  | 71 => 0xB412B2ED#32
  | 72 => 0x3415B495#32
  | 73 => 0xB418D9F0#32
  | 74 => 0x341C2500#32
  | 75 => 0xB41F97EA#32
  | 76 => 0x342334FF#32
  | 77 => 0xB426FEBD#32
  | 78 => 0x342AF7D2#32
  | 79 => 0xB42F2322#32
  | 80 => 0x343383CC#32
  | 81 => 0xB4381D32#32
  | 82 => 0x343CF2FA#32
  | 83 => 0xB4420919#32
  | 84 => 0x344763DA#32
  | 85 => 0xB44D07E6#32
  | 86 => 0x3452FA51#32
  | 87 => 0xB45940A1#32
  | 88 => 0x345FE0DA#32
  | 89 => 0xB466E193#32
  | 90 => 0x346E49FF#32
  | 91 => 0xB4762200#32
  | 92 => 0x347E723F#32
  | 93 => 0xB483A221#32
  | 94 => 0x34885142#32
  | 95 => 0xB48D4C4D#32
  | 96 => 0x349299A5#32
  | 97 => 0xB4984061#32
  | 98 => 0x349E485F#32
  | 99 => 0xB4A4BA5F#32
  | 100 => 0x34ABA023#32
  | 101 => 0xB4B30492#32
  | 102 => 0x34BAF3E5#32
  | 103 => 0xB4C37BD6#32
  | 104 => 0x34CCABDA#32
  | 105 => 0xB4D69568#32
  | 106 => 0x34E14C49#32
  | 107 => 0xB4ECE6F7#32
  | 108 => 0x34F97F13#32
  | 109 => 0xB50398F7#32
  | 110 => 0x350B1097#32
  | 111 => 0xB51339CD#32
  | 112 => 0x351C2B08#32
  | 113 => 0xB525FE56#32
  | 114 => 0x3530D21D#32
  | 115 => 0xB53CCA00#32
  | 116 => 0x354A0FF9#32
  | 117 => 0xB558D5BB#32
  | 118 => 0x35695670#32
  | 119 => 0xB57BD8F1#32
  | 120 => 0x3588594C#32
  | 121 => 0xB5942572#32
  | 122 => 0x35A19018#32
  | 123 => 0xB5B0E6EF#32
  | 124 => 0x35C28A3B#32
  | 125 => 0xB5D6F23A#32
  | 126 => 0x35EEB658#32
  | 127 => 0xB6054B76#32
  | _ => 0#32

noncomputable abbrev lit0t0_287 (i : Nat) : BitVec 32 := match i % 128 with
  | 0 => 0x3615C529#32
  | 1 => 0xB6296767#32
  | 2 => 0x3641014B#32
  | 3 => 0xB65DA20C#32
  | 4 => 0x368056F2#32
  | 5 => 0xB695FBC4#32
  | 6 => 0x36B0ED61#32
  | 7 => 0xB6D29E9B#32
  | 8 => 0x36FFBDB2#32
  | 9 => 0xB692EE32#32
  | 10 => 0x391EBB1A#32
  | 11 => 0x3B12D0DF#32
  | 12 => 0x3CA0086D#32
  | 13 => 0x3DBAD58B#32
  | 14 => 0x3E6BB748#32
  | 15 => 0x3EA069FE#32
  | 16 => 0x3E6BB748#32
  | 17 => 0x3DBAD58B#32
  | 18 => 0x3CA0086D#32
  | 19 => 0x3B12D0DF#32
  | 20 => 0x391EBB1A#32
  | 21 => 0xB692EE32#32
  | 22 => 0x36FFBDB2#32
  | 23 => 0xB6D29E9B#32
  | 24 => 0x36B0ED61#32
  | 25 => 0xB695FBC4#32
  | 26 => 0x368056F2#32
  | 27 => 0xB65DA20C#32
  | 28 => 0x3641014B#32
  | 29 => 0xB6296767#32
  | 30 => 0x3615C529#32
  | 31 => 0xB6054B76#32
  | 32 => 0x35EEB658#32
  | 33 => 0xB5D6F23A#32
  | 34 => 0x35C28A3B#32
  | 35 => 0xB5B0E6EF#32
  | 36 => 0x35A19018#32
  | 37 => 0xB5942572#32
  | 38 => 0x3588594C#32
  | 39 => 0xB57BD8F1#32
  | 40 => 0x35695670#32
  | 41 => 0xB558D5BB#32
  | 42 => 0x354A0FF9#32
  | 43 => 0xB53CCA00#32
  | 44 => 0x3530D21D#32
  | 45 => 0xB525FE56#32
  | 46 => 0x351C2B08#32
  | 47 => 0xB51339CD#32
  | 48 => 0x350B1097#32
  | 49 => 0xB50398F7#32
  | 50 => 0x34F97F13#32
  | 51 => 0xB4ECE6F7#32
  | 52 => 0x34E14C49#32
  | 53 => 0xB4D69568#32
  | 54 => 0x34CCABDA#32
  | 55 => 0xB4C37BD6#32
  | 56 => 0x34BAF3E5#32
  | 57 => 0xB4B30492#32
  | 58 => 0x34ABA023#32
  | 59 => 0xB4A4BA5F#32
  | 60 => 0x349E485F#32
  | 61 => 0xB4984061#32
  | 62 => 0x349299A5#32
  | 63 => 0xB48D4C4D#32
  | 64 => 0x34885143#32
  | 65 => 0xB483A221#32
  | 66 => 0x347E723F#32
  | 67 => 0xB4762200#32
  | 68 => 0x346E49FF#32
  | 69 => 0xB466E193#32
  | 70 => 0x345FE0DA#32
  | 71 => 0xB45940A1#32
  | 72 => 0x3452FA51#32
  | 73 => 0xB44D07E6#32
  | 74 => 0x344763DA#32
  | 75 => 0xB4420919#32
  | 76 => 0x343CF2FA#32
  | 77 => 0xB4381D32#32
  | 78 => 0x343383CC#32
  | 79 => 0xB42F2322#32
  | 80 => 0x342AF7D2#32
  | 81 => 0xB426FEBD#32
  | 82 => 0x342334FF#32
  | 83 => 0xB41F97EA#32
  | 84 => 0x341C2500#32
  | 85 => 0xB418D9F0#32
  | 86 => 0x3415B495#32
  | 87 => 0xB412B2ED#32
  | 88 => 0x340FD31A#32
  | 89 => 0xB40D1360#32
  | 90 => 0x340A721F#32
  | 91 => 0xB407EDD1#32
  | 92 => 0x3405850C#32
  | 93 => 0xB403367C#32
  | 94 => 0x340100E3#32
  | 95 => 0xB3FDC62E#32
  | 96 => 0x33F9B800#32
  | 97 => 0xB3F5D532#32
  | 98 => 0x33F21BD6#32
  | 99 => 0xB3EE8A1F#32
  | 100 => 0x33EB1E5A#32
  | 101 => 0xB3E7D6EF#32
  | 102 => 0x33E4B25D#32
  | 103 => 0xB3E1AF3D#32
  | 104 => 0x33DECC38#32
  | 105 => 0xB3DC0810#32
  | 106 => 0x33D96196#32
  | 107 => 0xB3D6D7AE#32
  | 108 => 0x33D4694B#32
  | 109 => 0xB3D21572#32
  | 110 => 0x33CFDB34#32
  | 111 => 0xB3CDB9B1#32
  | 112 => 0x33CBB015#32
  | 113 => 0xB3C9BD97#32
  | 114 => 0x33C7E17D#32
  | 115 => 0xB3C61B15#32
  | 116 => 0x33C469B8#32
  | 117 => 0xB3C2CCC7#32
  | 118 => 0x33C143B0#32
  | 119 => 0xB3BFCDE6#32
  | 120 => 0x33BE6AE7#32
  | 121 => 0xB3BD1A36#32
  | 122 => 0x33BBDB61#32
  | 123 => 0xB3BAADFB#32
  | 124 => 0x33B9919E#32
  | 125 => 0xB3B885EC#32
  | 126 => 0x33B78A8A#32
  | 127 => 0xB3B69F28#32
  | _ => 0#32

noncomputable abbrev lit0t0_288 (i : Nat) : BitVec 32 := match i % 128 with
  | 0 => 0xB3B69F28#32
  | 1 => 0x33B5C377#32
  | 2 => 0xB3B4F732#32
  | 3 => 0x33B43A15#32
  | 4 => 0xB3B38BE5#32
  | 5 => 0x33B2EC6A#32
  | 6 => 0xB3B25B72#32
  | 7 => 0x33B1D8CF#32
  | 8 => 0xB3B16459#32
  | 9 => 0x33B0FDEA#32
  | 10 => 0xB3B0A563#32
  | 11 => 0x33B05AA9#32
  | 12 => 0xB3B01DA5#32
  | 13 => 0x33AFEE43#32
  | 14 => 0xB3AFCC75#32
  | 15 => 0x33AFB831#32
  | 16 => 0xB3AFB170#32
  | 17 => 0x33AFB831#32
  | 18 => 0xB3AFCC75#32
  | 19 => 0x33AFEE43#32
  | 20 => 0xB3B01DA5#32
  | 21 => 0x33B05AA9#32
  | 22 => 0xB3B0A563#32
  | 23 => 0x33B0FDEA#32
  | 24 => 0xB3B16459#32
  | 25 => 0x33B1D8CF#32
  | 26 => 0xB3B25B72#32
  | 27 => 0x33B2EC6A#32
  | 28 => 0xB3B38BE5#32
  | 29 => 0x33B43A15#32
  | 30 => 0xB3B4F732#32
  | 31 => 0x33B5C377#32
  | 32 => 0xB3B69F28#32
  | 33 => 0x33B78A8A#32
  | 34 => 0xB3B885EC#32
  | 35 => 0x33B9919E#32
  | 36 => 0xB3BAADFB#32
  | 37 => 0x33BBDB61#32
  | 38 => 0xB3BD1A36#32
  | 39 => 0x33BE6AE7#32
  | 40 => 0xB3BFCDE6#32
  | 41 => 0x33C143B0#32
  | 42 => 0xB3C2CCC7#32
  | 43 => 0x33C469B8#32
  | 44 => 0xB3C61B15#32
  | 45 => 0x33C7E17D#32
  | 46 => 0xB3C9BD97#32
  | 47 => 0x33CBB015#32
  | 48 => 0xB3CDB9B1#32
  | 49 => 0x33CFDB34#32
  | 50 => 0xB3D21572#32
  | 51 => 0x33D4694B#32
  | 52 => 0xB3D6D7AE#32
  | 53 => 0x33D96196#32
  | 54 => 0xB3DC0810#32
  | 55 => 0x33DECC38#32
  | 56 => 0xB3E1AF3D#32
  | 57 => 0x33E4B25D#32
  | 58 => 0xB3E7D6EF#32
  | 59 => 0x33EB1E5A#32
  | 60 => 0xB3EE8A1F#32
  | 61 => 0x33F21BD6#32
  | 62 => 0xB3F5D532#32
  | 63 => 0x33F9B800#32
  | 64 => 0xB3FDC62E#32
  | 65 => 0x340100E3#32
  | 66 => 0xB403367C#32
  | 67 => 0x3405850C#32
  | 68 => 0xB407EDD1#32
  | 69 => 0x340A721F#32
  | 70 => 0xB40D1360#32
  | 71 => 0x340FD31A#32
  | 72 => 0xB412B2ED#32
  | 73 => 0x3415B495#32
  | 74 => 0xB418D9F0#32
  | 75 => 0x341C2500#32
  | 76 => 0xB41F97EA#32
  | 77 => 0x342334FF#32
  | 78 => 0xB426FEBD#32
  | 79 => 0x342AF7D2#32
  | 80 => 0xB42F2322#32
  | 81 => 0x343383CC#32
  | 82 => 0xB4381D32#32
  | 83 => 0x343CF2FA#32
  | 84 => 0xB4420919#32
  | 85 => 0x344763DA#32
  | 86 => 0xB44D07E6#32
  | 87 => 0x3452FA51#32
  | 88 => 0xB45940A1#32
  | 89 => 0x345FE0DA#32
  | 90 => 0xB466E193#32
  | 91 => 0x346E49FF#32
  | 92 => 0xB4762200#32
  | 93 => 0x347E723F#32
  | 94 => 0xB483A221#32
  | 95 => 0x34885143#32
  | 96 => 0xB48D4C4D#32
  | 97 => 0x349299A5#32
  | 98 => 0xB4984061#32
  | 99 => 0x349E485F#32
  | 100 => 0xB4A4BA5F#32
  | 101 => 0x34ABA023#32
  | 102 => 0xB4B30492#32
  | 103 => 0x34BAF3E5#32
  | 104 => 0xB4C37BD6#32
  | 105 => 0x34CCABDA#32
  | 106 => 0xB4D69568#32
  | 107 => 0x34E14C49#32
  | 108 => 0xB4ECE6F7#32
  | 109 => 0x34F97F13#32
  | 110 => 0xB50398F7#32
  | 111 => 0x350B1097#32
  | 112 => 0xB51339CD#32
  | 113 => 0x351C2B08#32
  | 114 => 0xB525FE56#32
  | 115 => 0x3530D21D#32
  | 116 => 0xB53CCA00#32
  | 117 => 0x354A0FF9#32
  | 118 => 0xB558D5BB#32
  | 119 => 0x35695670#32
  | 120 => 0xB57BD8F1#32
  | 121 => 0x3588594C#32
  | 122 => 0xB5942572#32
  | 123 => 0x35A19018#32
  | 124 => 0xB5B0E6EF#32
  | 125 => 0x35C28A3B#32
  | 126 => 0xB5D6F23A#32
  | 127 => 0x35EEB658#32
  | _ => 0#32

noncomputable abbrev lit0t0_289 (i : Nat) : BitVec 32 := match i % 128 with
  | 0 => 0xB6054B76#32
  | 1 => 0x3615C529#32
  | 2 => 0xB6296767#32
  | 3 => 0x3641014B#32
  | 4 => 0xB65DA20C#32
  | 5 => 0x368056F2#32
  | 6 => 0xB695FBC4#32
  | 7 => 0x36B0ED61#32
  | 8 => 0xB6D29E9B#32
  | 9 => 0x36FFBDB2#32
  | 10 => 0xB692EE32#32
  | 11 => 0x391EBB1A#32
  | 12 => 0x3B12D0DF#32
  | 13 => 0x3CA0086D#32
  | 14 => 0x3DBAD58B#32
  | 15 => 0x3E6BB748#32
  | 16 => 0x3EA069FE#32
  | 17 => 0x3E6BB748#32
  | 18 => 0x3DBAD58B#32
  | 19 => 0x3CA0086D#32
  | 20 => 0x3B12D0DF#32
  | 21 => 0x391EBB1A#32
  | 22 => 0xB692EE32#32
  | 23 => 0x36FFBDB2#32
  | 24 => 0xB6D29E9B#32
  | 25 => 0x36B0ED61#32
  | 26 => 0xB695FBC4#32
  | 27 => 0x368056F2#32
  | 28 => 0xB65DA20C#32
  | 29 => 0x3641014B#32
  | 30 => 0xB6296767#32
  | 31 => 0x3615C529#32
  | 32 => 0xB6054B76#32
  | 33 => 0x35EEB658#32
  | 34 => 0xB5D6F23A#32
  | 35 => 0x35C28A3B#32
  | 36 => 0xB5B0E6EF#32
  | 37 => 0x35A19018#32
  | 38 => 0xB5942572#32
  | 39 => 0x3588594C#32
  | 40 => 0xB57BD8F1#32
  | 41 => 0x35695670#32
  | 42 => 0xB558D5BB#32
  | 43 => 0x354A0FF9#32
  | 44 => 0xB53CCA00#32
  | 45 => 0x3530D21D#32
  | 46 => 0xB525FE56#32
  | 47 => 0x351C2B08#32
  | 48 => 0xB51339CD#32
  | 49 => 0x350B1097#32
  | 50 => 0xB50398F7#32
  | 51 => 0x34F97F13#32
  | 52 => 0xB4ECE6F7#32
  | 53 => 0x34E14C49#32
  | 54 => 0xB4D69568#32
  | 55 => 0x34CCABDA#32
  | 56 => 0xB4C37BD6#32
  | 57 => 0x34BAF3E5#32
  | 58 => 0xB4B30492#32
  | 59 => 0x34ABA023#32
  | 60 => 0xB4A4BA5F#32
  | 61 => 0x349E485F#32
  | 62 => 0xB4984061#32
  | 63 => 0x349299A5#32
  | 64 => 0xB48D4C4D#32
  | 65 => 0x34885143#32
  | 66 => 0xB483A221#32
  | 67 => 0x347E723F#32
  | 68 => 0xB4762200#32
  | 69 => 0x346E49FF#32
  | 70 => 0xB466E193#32
  | 71 => 0x345FE0DA#32
  | 72 => 0xB45940A1#32
  | 73 => 0x3452FA51#32
  | 74 => 0xB44D07E6#32
  | 75 => 0x344763DA#32
  | 76 => 0xB4420919#32
  | 77 => 0x343CF2FA#32
  | 78 => 0xB4381D32#32
  | 79 => 0x343383CC#32
  | 80 => 0xB42F2322#32
  | 81 => 0x342AF7D2#32
  | 82 => 0xB426FEBD#32
  | 83 => 0x342334FF#32
  | 84 => 0xB41F97EA#32
  | 85 => 0x341C2500#32
  | 86 => 0xB418D9F0#32
  | 87 => 0x3415B495#32
  | 88 => 0xB412B2ED#32
  | 89 => 0x340FD31A#32
  | 90 => 0xB40D1360#32
  | 91 => 0x340A721F#32
  | 92 => 0xB407EDD1#32
  | 93 => 0x3405850C#32
  | 94 => 0xB403367C#32
  | 95 => 0x340100E3#32
  | 96 => 0xB3FDC62E#32
  | 97 => 0x33F9B800#32
  | 98 => 0xB3F5D532#32
  | 99 => 0x33F21BD6#32
  | 100 => 0xB3EE8A1F#32
  | 101 => 0x33EB1E5A#32
  | 102 => 0xB3E7D6EF#32
  | 103 => 0x33E4B25D#32
  | 104 => 0xB3E1AF3D#32
  | 105 => 0x33DECC38#32
  | 106 => 0xB3DC0810#32
  | 107 => 0x33D96196#32
  | 108 => 0xB3D6D7AE#32
  | 109 => 0x33D4694B#32
  | 110 => 0xB3D21572#32
  | 111 => 0x33CFDB34#32
  | 112 => 0xB3CDB9B1#32
  | 113 => 0x33CBB015#32
  | 114 => 0xB3C9BD97#32
  | 115 => 0x33C7E17D#32
  | 116 => 0xB3C61B15#32
  | 117 => 0x33C469B8#32
  | 118 => 0xB3C2CCC7#32
  | 119 => 0x33C143B0#32
  | 120 => 0xB3BFCDE6#32
  | 121 => 0x33BE6AE7#32
  | 122 => 0xB3BD1A36#32
  | 123 => 0x33BBDB61#32
  | 124 => 0xB3BAADFB#32
  | 125 => 0x33B9919E#32
  | 126 => 0xB3B885EC#32
  | 127 => 0x33B78A8A#32
  | _ => 0#32

noncomputable abbrev lit0t0_290 (i : Nat) : BitVec 32 := match i % 128 with
  | 0 => 0x33B78A8A#32
  | 1 => 0xB3B69F28#32
  | 2 => 0x33B5C377#32
  | 3 => 0xB3B4F732#32
  | 4 => 0x33B43A15#32
  | 5 => 0xB3B38BE5#32
  | 6 => 0x33B2EC6A#32
  | 7 => 0xB3B25B72#32
  | 8 => 0x33B1D8CF#32
  | 9 => 0xB3B16459#32
  | 10 => 0x33B0FDEA#32
  | 11 => 0xB3B0A563#32
  | 12 => 0x33B05AA9#32
  | 13 => 0xB3B01DA5#32
  | 14 => 0x33AFEE43#32
  | 15 => 0xB3AFCC75#32
  | 16 => 0x33AFB831#32
  | 17 => 0xB3AFB170#32
  | 18 => 0x33AFB831#32
  | 19 => 0xB3AFCC75#32
  | 20 => 0x33AFEE43#32
  | 21 => 0xB3B01DA5#32
  | 22 => 0x33B05AA9#32
  | 23 => 0xB3B0A563#32
  | 24 => 0x33B0FDEA#32
  | 25 => 0xB3B16459#32
  | 26 => 0x33B1D8CF#32
  | 27 => 0xB3B25B72#32
  | 28 => 0x33B2EC6A#32
  | 29 => 0xB3B38BE5#32
  | 30 => 0x33B43A15#32
  | 31 => 0xB3B4F732#32
  | 32 => 0x33B5C377#32
  | 33 => 0xB3B69F28#32
  | 34 => 0x33B78A8A#32
  | 35 => 0xB3B885EC#32
  | 36 => 0x33B9919E#32
  | 37 => 0xB3BAADFB#32
  | 38 => 0x33BBDB61#32
  | 39 => 0xB3BD1A36#32
  | 40 => 0x33BE6AE7#32
  | 41 => 0xB3BFCDE6#32
  | 42 => 0x33C143B0#32
  | 43 => 0xB3C2CCC7#32
  | 44 => 0x33C469B8#32
  | 45 => 0xB3C61B15#32
  | 46 => 0x33C7E17D#32
  | 47 => 0xB3C9BD97#32
  | 48 => 0x33CBB015#32
  | 49 => 0xB3CDB9B1#32
  | 50 => 0x33CFDB34#32
  | 51 => 0xB3D21572#32
  | 52 => 0x33D4694B#32
  | 53 => 0xB3D6D7AE#32
  | 54 => 0x33D96196#32
  | 55 => 0xB3DC0810#32
  | 56 => 0x33DECC38#32
  | 57 => 0xB3E1AF3D#32
  | 58 => 0x33E4B25D#32
  | 59 => 0xB3E7D6EF#32
  | 60 => 0x33EB1E5A#32
  | 61 => 0xB3EE8A1F#32
  | 62 => 0x33F21BD6#32
  | 63 => 0xB3F5D532#32
  | 64 => 0x33F9B800#32
  | 65 => 0xB3FDC62E#32
  | 66 => 0x340100E3#32
  | 67 => 0xB403367C#32
  | 68 => 0x3405850C#32
  | 69 => 0xB407EDD1#32
  | 70 => 0x340A721F#32
  | 71 => 0xB40D1360#32
  | 72 => 0x340FD31A#32
  | 73 => 0xB412B2ED#32
  | 74 => 0x3415B495#32
  | 75 => 0xB418D9F0#32
  | 76 => 0x341C2500#32
  | 77 => 0xB41F97EA#32
  | 78 => 0x342334FF#32
  | 79 => 0xB426FEBD#32
  | 80 => 0x342AF7D2#32
  | 81 => 0xB42F2322#32
  | 82 => 0x343383CC#32
  | 83 => 0xB4381D32#32
  | 84 => 0x343CF2FA#32
  | 85 => 0xB4420919#32
  | 86 => 0x344763DA#32
  | 87 => 0xB44D07E6#32
  | 88 => 0x3452FA51#32
  | 89 => 0xB45940A1#32
  | 90 => 0x345FE0DA#32
  | 91 => 0xB466E193#32
  | 92 => 0x346E49FF#32
  | 93 => 0xB4762200#32
  | 94 => 0x347E723F#32
  | 95 => 0xB483A221#32
  | 96 => 0x34885143#32
  | 97 => 0xB48D4C4D#32
  | 98 => 0x349299A5#32
  | 99 => 0xB4984061#32
  | 100 => 0x349E485F#32
  | 101 => 0xB4A4BA5F#32
  | 102 => 0x34ABA023#32
  | 103 => 0xB4B30492#32
  | 104 => 0x34BAF3E5#32
  | 105 => 0xB4C37BD6#32
  | 106 => 0x34CCABDA#32
  | 107 => 0xB4D69568#32
  | 108 => 0x34E14C49#32
  | 109 => 0xB4ECE6F7#32
  | 110 => 0x34F97F13#32
  | 111 => 0xB50398F7#32
  | 112 => 0x350B1097#32
  | 113 => 0xB51339CD#32
  | 114 => 0x351C2B08#32
  | 115 => 0xB525FE56#32
  | 116 => 0x3530D21D#32
  | 117 => 0xB53CCA00#32
  | 118 => 0x354A0FF9#32
  | 119 => 0xB558D5BB#32
  | 120 => 0x35695670#32
  | 121 => 0xB57BD8F1#32
  | 122 => 0x3588594C#32
  | 123 => 0xB5942572#32
  | 124 => 0x35A19018#32
  | 125 => 0xB5B0E6EF#32
  | 126 => 0x35C28A3B#32
  | 127 => 0xB5D6F23A#32
  | _ => 0#32

noncomputable abbrev lit0t0_291 (i : Nat) : BitVec 32 := match i % 128 with
  | 0 => 0x35EEB658#32
  | 1 => 0xB6054B76#32
  | 2 => 0x3615C529#32
  | 3 => 0xB6296767#32
  | 4 => 0x3641014B#32
  | 5 => 0xB65DA20C#32
  | 6 => 0x368056F2#32
  | 7 => 0xB695FBC4#32
  | 8 => 0x36B0ED61#32
  | 9 => 0xB6D29E9B#32
  | 10 => 0x36FFBDB2#32
  | 11 => 0xB692EE32#32
  | 12 => 0x391EBB1A#32
  | 13 => 0x3B12D0DF#32
  | 14 => 0x3CA0086D#32
  | 15 => 0x3DBAD58B#32
  | 16 => 0x3E6BB748#32
  | 17 => 0x3EA069FE#32
  | 18 => 0x3E6BB748#32
  | 19 => 0x3DBAD58B#32
  | 20 => 0x3CA0086D#32
  | 21 => 0x3B12D0DF#32
  | 22 => 0x391EBB1A#32
  | 23 => 0xB692EE32#32
  | 24 => 0x36FFBDB2#32
  | 25 => 0xB6D29E9B#32
  | 26 => 0x36B0ED61#32
  | 27 => 0xB695FBC4#32
  | 28 => 0x368056F2#32
  | 29 => 0xB65DA20C#32
  | 30 => 0x3641014B#32
  | 31 => 0xB6296767#32
  | 32 => 0x3615C529#32
  | 33 => 0xB6054B76#32
  | 34 => 0x35EEB658#32
  | 35 => 0xB5D6F23A#32
  | 36 => 0x35C28A3B#32
  | 37 => 0xB5B0E6EF#32
  | 38 => 0x35A19018#32
  | 39 => 0xB5942572#32
  | 40 => 0x3588594C#32
  | 41 => 0xB57BD8F1#32
  | 42 => 0x35695670#32
  | 43 => 0xB558D5BB#32
  | 44 => 0x354A0FF9#32
  | 45 => 0xB53CCA00#32
  | 46 => 0x3530D21D#32
  | 47 => 0xB525FE56#32
  | 48 => 0x351C2B08#32
  | 49 => 0xB51339CD#32
  | 50 => 0x350B1097#32
  | 51 => 0xB50398F7#32
  | 52 => 0x34F97F13#32
  | 53 => 0xB4ECE6F7#32
  | 54 => 0x34E14C49#32
  | 55 => 0xB4D69568#32
  | 56 => 0x34CCABDA#32
  | 57 => 0xB4C37BD6#32
  | 58 => 0x34BAF3E5#32
  | 59 => 0xB4B30492#32
  | 60 => 0x34ABA023#32
  | 61 => 0xB4A4BA5F#32
  | 62 => 0x349E485F#32
  | 63 => 0xB4984061#32
  | 64 => 0x349299A5#32
  | 65 => 0xB48D4C4D#32
  | 66 => 0x34885143#32
  | 67 => 0xB483A221#32
  | 68 => 0x347E723F#32
  | 69 => 0xB4762200#32
  | 70 => 0x346E49FF#32
  | 71 => 0xB466E193#32
  | 72 => 0x345FE0DA#32
  | 73 => 0xB45940A1#32
  | 74 => 0x3452FA51#32
  | 75 => 0xB44D07E6#32
  | 76 => 0x344763DA#32
  | 77 => 0xB4420919#32
  | 78 => 0x343CF2FA#32
  | 79 => 0xB4381D32#32
  | 80 => 0x343383CC#32
  | 81 => 0xB42F2322#32
  | 82 => 0x342AF7D2#32
  | 83 => 0xB426FEBD#32
  | 84 => 0x342334FF#32
  | 85 => 0xB41F97EA#32
  | 86 => 0x341C2500#32
  | 87 => 0xB418D9F0#32
  | 88 => 0x3415B495#32
  | 89 => 0xB412B2ED#32
  | 90 => 0x340FD31A#32
  | 91 => 0xB40D1360#32
  | 92 => 0x340A721F#32
  | 93 => 0xB407EDD1#32
  | 94 => 0x3405850C#32
  | 95 => 0xB403367C#32
  | 96 => 0x340100E3#32
  | 97 => 0xB3FDC62E#32
  | 98 => 0x33F9B800#32
  | 99 => 0xB3F5D532#32
  | 100 => 0x33F21BD6#32
  | 101 => 0xB3EE8A1F#32
  | 102 => 0x33EB1E5A#32
  | 103 => 0xB3E7D6EF#32
  | 104 => 0x33E4B25D#32
  | 105 => 0xB3E1AF3D#32
  | 106 => 0x33DECC38#32
  | 107 => 0xB3DC0810#32
  | 108 => 0x33D96196#32
  | 109 => 0xB3D6D7AE#32
  | 110 => 0x33D4694B#32
  | 111 => 0xB3D21572#32
  | 112 => 0x33CFDB34#32
  | 113 => 0xB3CDB9B1#32
  | 114 => 0x33CBB015#32
  | 115 => 0xB3C9BD97#32
  | 116 => 0x33C7E17D#32
  | 117 => 0xB3C61B15#32
  | 118 => 0x33C469B8#32
  | 119 => 0xB3C2CCC7#32
  | 120 => 0x33C143B0#32
  | 121 => 0xB3BFCDE6#32
  | 122 => 0x33BE6AE7#32
  | 123 => 0xB3BD1A36#32
  | 124 => 0x33BBDB61#32
  | 125 => 0xB3BAADFB#32
  | 126 => 0x33B9919E#32
  | 127 => 0xB3B885EC#32
  | _ => 0#32

noncomputable abbrev lit0t0_292 (i : Nat) : BitVec 32 := match i % 128 with
  | 0 => 0xB3B885EC#32
  | 1 => 0x33B78A8A#32
  | 2 => 0xB3B69F28#32
  | 3 => 0x33B5C377#32
  | 4 => 0xB3B4F732#32
  | 5 => 0x33B43A15#32
  | 6 => 0xB3B38BE5#32
  | 7 => 0x33B2EC6A#32
  | 8 => 0xB3B25B72#32
  | 9 => 0x33B1D8CF#32
  | 10 => 0xB3B16459#32
  | 11 => 0x33B0FDEA#32
  | 12 => 0xB3B0A563#32
  | 13 => 0x33B05AA9#32
  | 14 => 0xB3B01DA5#32
  | 15 => 0x33AFEE43#32
  | 16 => 0xB3AFCC75#32
  | 17 => 0x33AFB831#32
  | 18 => 0xB3AFB170#32
  | 19 => 0x33AFB831#32
  | 20 => 0xB3AFCC75#32
  | 21 => 0x33AFEE43#32
  | 22 => 0xB3B01DA5#32
  | 23 => 0x33B05AA9#32
  | 24 => 0xB3B0A563#32
  | 25 => 0x33B0FDEA#32
  | 26 => 0xB3B16459#32
  | 27 => 0x33B1D8CF#32
  | 28 => 0xB3B25B72#32
  | 29 => 0x33B2EC6A#32
  | 30 => 0xB3B38BE5#32
  | 31 => 0x33B43A15#32
  | 32 => 0xB3B4F732#32
  | 33 => 0x33B5C377#32
  | 34 => 0xB3B69F28#32
  | 35 => 0x33B78A8A#32
  | 36 => 0xB3B885EC#32
  | 37 => 0x33B9919E#32
  | 38 => 0xB3BAADFB#32
  | 39 => 0x33BBDB61#32
  | 40 => 0xB3BD1A36#32
  | 41 => 0x33BE6AE7#32
  | 42 => 0xB3BFCDE6#32
  | 43 => 0x33C143B0#32
  | 44 => 0xB3C2CCC7#32
  | 45 => 0x33C469B8#32
  | 46 => 0xB3C61B15#32
  | 47 => 0x33C7E17D#32
  | 48 => 0xB3C9BD97#32
  | 49 => 0x33CBB015#32
  | 50 => 0xB3CDB9B1#32
  | 51 => 0x33CFDB34#32
  | 52 => 0xB3D21572#32
  | 53 => 0x33D4694B#32
  | 54 => 0xB3D6D7AE#32
  | 55 => 0x33D96196#32
  | 56 => 0xB3DC0810#32
  | 57 => 0x33DECC38#32
  | 58 => 0xB3E1AF3D#32
  | 59 => 0x33E4B25D#32
  | 60 => 0xB3E7D6EF#32
  | 61 => 0x33EB1E5A#32
  | 62 => 0xB3EE8A1F#32
  | 63 => 0x33F21BD6#32
  | 64 => 0xB3F5D532#32
  | 65 => 0x33F9B800#32
  | 66 => 0xB3FDC62E#32
  | 67 => 0x340100E3#32
  | 68 => 0xB403367C#32
  | 69 => 0x3405850C#32
  | 70 => 0xB407EDD1#32
  | 71 => 0x340A721F#32
  | 72 => 0xB40D1360#32
  | 73 => 0x340FD31A#32
  | 74 => 0xB412B2ED#32
  | 75 => 0x3415B495#32
  | 76 => 0xB418D9F0#32
  | 77 => 0x341C2500#32
  | 78 => 0xB41F97EA#32
  | 79 => 0x342334FF#32
  | 80 => 0xB426FEBD#32
  | 81 => 0x342AF7D2#32
  | 82 => 0xB42F2322#32
  | 83 => 0x343383CC#32
  | 84 => 0xB4381D32#32
  | 85 => 0x343CF2FA#32
  | 86 => 0xB4420919#32
  | 87 => 0x344763DA#32
  | 88 => 0xB44D07E6#32
  | 89 => 0x3452FA51#32
  | 90 => 0xB45940A1#32
  | 91 => 0x345FE0DA#32
  | 92 => 0xB466E193#32
  | 93 => 0x346E49FF#32
  | 94 => 0xB4762200#32
  | 95 => 0x347E723F#32
  | 96 => 0xB483A221#32
  | 97 => 0x34885143#32
  | 98 => 0xB48D4C4D#32
  | 99 => 0x349299A5#32
  | 100 => 0xB4984061#32
  | 101 => 0x349E485F#32
  | 102 => 0xB4A4BA5F#32
  | 103 => 0x34ABA023#32
  | 104 => 0xB4B30492#32
  | 105 => 0x34BAF3E5#32
  | 106 => 0xB4C37BD6#32
  | 107 => 0x34CCABDA#32
  | 108 => 0xB4D69568#32
  | 109 => 0x34E14C49#32
  | 110 => 0xB4ECE6F7#32
  | 111 => 0x34F97F13#32
  | 112 => 0xB50398F7#32
  | 113 => 0x350B1097#32
  | 114 => 0xB51339CD#32
  | 115 => 0x351C2B08#32
  | 116 => 0xB525FE56#32
  | 117 => 0x3530D21D#32
  | 118 => 0xB53CCA00#32
  | 119 => 0x354A0FF9#32
  | 120 => 0xB558D5BB#32
  | 121 => 0x35695670#32
  | 122 => 0xB57BD8F1#32
  | 123 => 0x3588594C#32
  | 124 => 0xB5942572#32
  | 125 => 0x35A19018#32
  | 126 => 0xB5B0E6EF#32
  | 127 => 0x35C28A3B#32
  | _ => 0#32

noncomputable abbrev lit0t0_293 (i : Nat) : BitVec 32 := match i % 128 with
  | 0 => 0xB5D6F23A#32
  | 1 => 0x35EEB658#32
  | 2 => 0xB6054B76#32
  | 3 => 0x3615C529#32
  | 4 => 0xB6296767#32
  | 5 => 0x3641014B#32
  | 6 => 0xB65DA20C#32
  | 7 => 0x368056F2#32
  | 8 => 0xB695FBC4#32
  | 9 => 0x36B0ED61#32
  | 10 => 0xB6D29E9B#32
  | 11 => 0x36FFBDB2#32
  | 12 => 0xB692EE32#32
  | 13 => 0x391EBB1A#32
  | 14 => 0x3B12D0DF#32
  | 15 => 0x3CA0086D#32
  | 16 => 0x3DBAD58B#32
  | 17 => 0x3E6BB748#32
  | 18 => 0x3EA069FE#32
  | 19 => 0x3E6BB748#32
  | 20 => 0x3DBAD58B#32
  | 21 => 0x3CA0086D#32
  | 22 => 0x3B12D0DF#32
  | 23 => 0x391EBB1A#32
  | 24 => 0xB692EE32#32
  | 25 => 0x36FFBDB2#32
  | 26 => 0xB6D29E9B#32
  | 27 => 0x36B0ED61#32
  | 28 => 0xB695FBC4#32
  | 29 => 0x368056F2#32
  | 30 => 0xB65DA20C#32
  | 31 => 0x3641014B#32
  | 32 => 0xB6296767#32
  | 33 => 0x3615C529#32
  | 34 => 0xB6054B76#32
  | 35 => 0x35EEB658#32
  | 36 => 0xB5D6F23A#32
  | 37 => 0x35C28A3B#32
  | 38 => 0xB5B0E6EF#32
  | 39 => 0x35A19018#32
  | 40 => 0xB5942572#32
  | 41 => 0x3588594C#32
  | 42 => 0xB57BD8F1#32
  | 43 => 0x35695670#32
  | 44 => 0xB558D5BB#32
  | 45 => 0x354A0FF9#32
  | 46 => 0xB53CCA00#32
  | 47 => 0x3530D21D#32
  | 48 => 0xB525FE56#32
  | 49 => 0x351C2B08#32
  | 50 => 0xB51339CD#32
  | 51 => 0x350B1097#32
  | 52 => 0xB50398F7#32
  | 53 => 0x34F97F13#32
  | 54 => 0xB4ECE6F7#32
  | 55 => 0x34E14C49#32
  | 56 => 0xB4D69568#32
  | 57 => 0x34CCABDA#32
  | 58 => 0xB4C37BD6#32
  | 59 => 0x34BAF3E5#32
  | 60 => 0xB4B30492#32
  | 61 => 0x34ABA023#32
  | 62 => 0xB4A4BA5F#32
  | 63 => 0x349E485F#32
  | 64 => 0xB4984061#32
  | 65 => 0x349299A5#32
  | 66 => 0xB48D4C4D#32
  | 67 => 0x34885143#32
  | 68 => 0xB483A221#32
  | 69 => 0x347E723F#32
  | 70 => 0xB4762200#32
  | 71 => 0x346E49FF#32
  | 72 => 0xB466E193#32
  | 73 => 0x345FE0DA#32
  | 74 => 0xB45940A1#32
  | 75 => 0x3452FA51#32
  | 76 => 0xB44D07E6#32
  | 77 => 0x344763DA#32
  | 78 => 0xB4420919#32
  | 79 => 0x343CF2FA#32
  | 80 => 0xB4381D32#32
  | 81 => 0x343383CC#32
  | 82 => 0xB42F2322#32
  | 83 => 0x342AF7D2#32
  | 84 => 0xB426FEBD#32
  | 85 => 0x342334FF#32
  | 86 => 0xB41F97EA#32
  | 87 => 0x341C2500#32
  | 88 => 0xB418D9F0#32
  | 89 => 0x3415B495#32
  | 90 => 0xB412B2ED#32
  | 91 => 0x340FD31A#32
  | 92 => 0xB40D1360#32
  | 93 => 0x340A721F#32
  | 94 => 0xB407EDD1#32
  | 95 => 0x3405850C#32
  | 96 => 0xB403367C#32
  | 97 => 0x340100E3#32
  | 98 => 0xB3FDC62E#32
  | 99 => 0x33F9B800#32
  | 100 => 0xB3F5D532#32
  | 101 => 0x33F21BD6#32
  | 102 => 0xB3EE8A1F#32
  | 103 => 0x33EB1E5A#32
  | 104 => 0xB3E7D6EF#32
  | 105 => 0x33E4B25D#32
  | 106 => 0xB3E1AF3D#32
  | 107 => 0x33DECC38#32
  | 108 => 0xB3DC0810#32
  | 109 => 0x33D96196#32
  | 110 => 0xB3D6D7AE#32
  | 111 => 0x33D4694B#32
  | 112 => 0xB3D21572#32
  | 113 => 0x33CFDB34#32
  | 114 => 0xB3CDB9B1#32
  | 115 => 0x33CBB015#32
  | 116 => 0xB3C9BD97#32
  | 117 => 0x33C7E17D#32
  | 118 => 0xB3C61B15#32
  | 119 => 0x33C469B8#32
  | 120 => 0xB3C2CCC7#32
  | 121 => 0x33C143B0#32
  | 122 => 0xB3BFCDE6#32
  | 123 => 0x33BE6AE7#32
  | 124 => 0xB3BD1A36#32
  | 125 => 0x33BBDB61#32
  | 126 => 0xB3BAADFB#32
  | 127 => 0x33B9919E#32
  | _ => 0#32

noncomputable abbrev lit0t0_294 (i : Nat) : BitVec 32 := match i % 128 with
  | 0 => 0x33B9919E#32
  | 1 => 0xB3B885EC#32
  | 2 => 0x33B78A8A#32
  | 3 => 0xB3B69F28#32
  | 4 => 0x33B5C377#32
  | 5 => 0xB3B4F732#32
  | 6 => 0x33B43A15#32
  | 7 => 0xB3B38BE5#32
  | 8 => 0x33B2EC6A#32
  | 9 => 0xB3B25B72#32
  | 10 => 0x33B1D8CF#32
  | 11 => 0xB3B16459#32
  | 12 => 0x33B0FDEA#32
  | 13 => 0xB3B0A563#32
  | 14 => 0x33B05AA9#32
  | 15 => 0xB3B01DA5#32
  | 16 => 0x33AFEE43#32
  | 17 => 0xB3AFCC75#32
  | 18 => 0x33AFB831#32
  | 19 => 0xB3AFB170#32
  | 20 => 0x33AFB831#32
  | 21 => 0xB3AFCC75#32
  | 22 => 0x33AFEE43#32
  | 23 => 0xB3B01DA5#32
  | 24 => 0x33B05AA9#32
  | 25 => 0xB3B0A563#32
  | 26 => 0x33B0FDEA#32
  | 27 => 0xB3B16459#32
  | 28 => 0x33B1D8CF#32
  | 29 => 0xB3B25B72#32
  | 30 => 0x33B2EC6A#32
  | 31 => 0xB3B38BE5#32
  | 32 => 0x33B43A15#32
  | 33 => 0xB3B4F732#32
  | 34 => 0x33B5C377#32
  | 35 => 0xB3B69F28#32
  | 36 => 0x33B78A8A#32
  | 37 => 0xB3B885EC#32
  | 38 => 0x33B9919E#32
  | 39 => 0xB3BAADFB#32
  | 40 => 0x33BBDB61#32
  | 41 => 0xB3BD1A36#32
  | 42 => 0x33BE6AE7#32
  | 43 => 0xB3BFCDE6#32
  | 44 => 0x33C143B0#32
  | 45 => 0xB3C2CCC7#32
  | 46 => 0x33C469B8#32
  | 47 => 0xB3C61B15#32
  | 48 => 0x33C7E17D#32
  | 49 => 0xB3C9BD97#32
  | 50 => 0x33CBB015#32
  | 51 => 0xB3CDB9B1#32
  | 52 => 0x33CFDB34#32
  | 53 => 0xB3D21572#32
  | 54 => 0x33D4694B#32
  | 55 => 0xB3D6D7AE#32
  | 56 => 0x33D96196#32
  | 57 => 0xB3DC0810#32
  | 58 => 0x33DECC38#32
  | 59 => 0xB3E1AF3D#32
  | 60 => 0x33E4B25D#32
  | 61 => 0xB3E7D6EF#32
  | 62 => 0x33EB1E5A#32
  | 63 => 0xB3EE8A1F#32
  | 64 => 0x33F21BD6#32
  | 65 => 0xB3F5D532#32
  | 66 => 0x33F9B800#32
  | 67 => 0xB3FDC62E#32
  | 68 => 0x340100E3#32
  | 69 => 0xB403367C#32
  | 70 => 0x3405850C#32
  | 71 => 0xB407EDD1#32
  | 72 => 0x340A721F#32
  | 73 => 0xB40D1360#32
  | 74 => 0x340FD31A#32
  | 75 => 0xB412B2ED#32
  | 76 => 0x3415B495#32
  | 77 => 0xB418D9F0#32
  | 78 => 0x341C2500#32
  | 79 => 0xB41F97EA#32
  | 80 => 0x342334FF#32
  | 81 => 0xB426FEBD#32
  | 82 => 0x342AF7D2#32
  | 83 => 0xB42F2322#32
  | 84 => 0x343383CC#32
  | 85 => 0xB4381D32#32
  | 86 => 0x343CF2FA#32
  | 87 => 0xB4420919#32
  | 88 => 0x344763DA#32
  | 89 => 0xB44D07E6#32
  | 90 => 0x3452FA51#32
  | 91 => 0xB45940A1#32
  | 92 => 0x345FE0DA#32
  | 93 => 0xB466E193#32
  | 94 => 0x346E49FF#32
  | 95 => 0xB4762200#32
  | 96 => 0x347E723F#32
  | 97 => 0xB483A221#32
  | 98 => 0x34885143#32
  | 99 => 0xB48D4C4D#32
  | 100 => 0x349299A5#32
  | 101 => 0xB4984061#32
  | 102 => 0x349E485F#32
  | 103 => 0xB4A4BA5F#32
  | 104 => 0x34ABA023#32
  | 105 => 0xB4B30492#32
  | 106 => 0x34BAF3E5#32
  | 107 => 0xB4C37BD6#32
  | 108 => 0x34CCABDA#32
  | 109 => 0xB4D69568#32
  | 110 => 0x34E14C49#32
  | 111 => 0xB4ECE6F7#32
  | 112 => 0x34F97F13#32
  | 113 => 0xB50398F7#32
  | 114 => 0x350B1097#32
  | 115 => 0xB51339CD#32
  | 116 => 0x351C2B08#32
  | 117 => 0xB525FE56#32
  | 118 => 0x3530D21D#32
  | 119 => 0xB53CCA00#32
  | 120 => 0x354A0FF9#32
  | 121 => 0xB558D5BB#32
  | 122 => 0x35695670#32
  | 123 => 0xB57BD8F1#32
  | 124 => 0x3588594C#32
  | 125 => 0xB5942572#32
  | 126 => 0x35A19018#32
  | 127 => 0xB5B0E6EF#32
  | _ => 0#32

noncomputable abbrev lit0t0_295 (i : Nat) : BitVec 32 := match i % 128 with
  | 0 => 0x35C28A3B#32
  | 1 => 0xB5D6F23A#32
  | 2 => 0x35EEB658#32
  | 3 => 0xB6054B76#32
  | 4 => 0x3615C529#32
  | 5 => 0xB6296767#32
  | 6 => 0x3641014B#32
  | 7 => 0xB65DA20C#32
  | 8 => 0x368056F2#32
  | 9 => 0xB695FBC4#32
  | 10 => 0x36B0ED61#32
  | 11 => 0xB6D29E9B#32
  | 12 => 0x36FFBDB2#32
  | 13 => 0xB692EE32#32
  | 14 => 0x391EBB1A#32
  | 15 => 0x3B12D0DF#32
  | 16 => 0x3CA0086D#32
  | 17 => 0x3DBAD58B#32
  | 18 => 0x3E6BB748#32
  | 19 => 0x3EA069FE#32
  | 20 => 0x3E6BB748#32
  | 21 => 0x3DBAD58B#32
  | 22 => 0x3CA0086D#32
  | 23 => 0x3B12D0DF#32
  | 24 => 0x391EBB1A#32
  | 25 => 0xB692EE32#32
  | 26 => 0x36FFBDB2#32
  | 27 => 0xB6D29E9B#32
  | 28 => 0x36B0ED61#32
  | 29 => 0xB695FBC4#32
  | 30 => 0x368056F2#32
  | 31 => 0xB65DA20C#32
  | 32 => 0x3641014B#32
  | 33 => 0xB6296767#32
  | 34 => 0x3615C529#32
  | 35 => 0xB6054B76#32
  | 36 => 0x35EEB658#32
  | 37 => 0xB5D6F23A#32
  | 38 => 0x35C28A3B#32
  | 39 => 0xB5B0E6EF#32
  | 40 => 0x35A19018#32
  | 41 => 0xB5942572#32
  | 42 => 0x3588594C#32
  | 43 => 0xB57BD8F1#32
  | 44 => 0x35695670#32
  | 45 => 0xB558D5BB#32
  | 46 => 0x354A0FF9#32
  | 47 => 0xB53CCA00#32
  | 48 => 0x3530D21D#32
  | 49 => 0xB525FE56#32
  | 50 => 0x351C2B08#32
  | 51 => 0xB51339CD#32
  | 52 => 0x350B1097#32
  | 53 => 0xB50398F7#32
  | 54 => 0x34F97F13#32
  | 55 => 0xB4ECE6F7#32
  | 56 => 0x34E14C49#32
  | 57 => 0xB4D69568#32
  | 58 => 0x34CCABDA#32
  | 59 => 0xB4C37BD6#32
  | 60 => 0x34BAF3E5#32
  | 61 => 0xB4B30492#32
  | 62 => 0x34ABA023#32
  | 63 => 0xB4A4BA5F#32
  | 64 => 0x349E485F#32
  | 65 => 0xB4984061#32
  | 66 => 0x349299A5#32
  | 67 => 0xB48D4C4D#32
  | 68 => 0x34885143#32
  | 69 => 0xB483A221#32
  | 70 => 0x347E723F#32
  | 71 => 0xB4762200#32
  | 72 => 0x346E49FF#32
  | 73 => 0xB466E193#32
  | 74 => 0x345FE0DA#32
  | 75 => 0xB45940A1#32
  | 76 => 0x3452FA51#32
  | 77 => 0xB44D07E6#32
  | 78 => 0x344763DA#32
  | 79 => 0xB4420919#32
  | 80 => 0x343CF2FA#32
  | 81 => 0xB4381D32#32
  | 82 => 0x343383CC#32
  | 83 => 0xB42F2322#32
  | 84 => 0x342AF7D2#32
  | 85 => 0xB426FEBD#32
  | 86 => 0x342334FF#32
  | 87 => 0xB41F97EA#32
  | 88 => 0x341C2500#32
  | 89 => 0xB418D9F0#32
  | 90 => 0x3415B495#32
  | 91 => 0xB412B2ED#32
  | 92 => 0x340FD31A#32
  | 93 => 0xB40D1360#32
  | 94 => 0x340A721F#32
  | 95 => 0xB407EDD1#32
  | 96 => 0x3405850C#32
  | 97 => 0xB403367C#32
  | 98 => 0x340100E3#32
  | 99 => 0xB3FDC62E#32
  | 100 => 0x33F9B800#32
  | 101 => 0xB3F5D532#32
  | 102 => 0x33F21BD6#32
  | 103 => 0xB3EE8A1F#32
  | 104 => 0x33EB1E5A#32
  | 105 => 0xB3E7D6EF#32
  | 106 => 0x33E4B25D#32
  | 107 => 0xB3E1AF3D#32
  | 108 => 0x33DECC38#32
  | 109 => 0xB3DC0810#32
  | 110 => 0x33D96196#32
  | 111 => 0xB3D6D7AE#32
  | 112 => 0x33D4694B#32
  | 113 => 0xB3D21572#32
  | 114 => 0x33CFDB34#32
  | 115 => 0xB3CDB9B1#32
  | 116 => 0x33CBB015#32
  | 117 => 0xB3C9BD97#32
  | 118 => 0x33C7E17D#32
  | 119 => 0xB3C61B15#32
  | 120 => 0x33C469B8#32
  | 121 => 0xB3C2CCC7#32
  | 122 => 0x33C143B0#32
  | 123 => 0xB3BFCDE6#32
  | 124 => 0x33BE6AE7#32
  | 125 => 0xB3BD1A36#32
  | 126 => 0x33BBDB61#32
  | 127 => 0xB3BAADFB#32
  | _ => 0#32

noncomputable abbrev lit0t0_296 (i : Nat) : BitVec 32 := match i % 128 with
  | 0 => 0xB3BAADFB#32
  | 1 => 0x33B9919E#32
  | 2 => 0xB3B885EC#32
  | 3 => 0x33B78A8A#32
  | 4 => 0xB3B69F28#32
  | 5 => 0x33B5C377#32
  | 6 => 0xB3B4F732#32
  | 7 => 0x33B43A15#32
  | 8 => 0xB3B38BE5#32
  | 9 => 0x33B2EC6A#32
  | 10 => 0xB3B25B72#32
  | 11 => 0x33B1D8CF#32
  | 12 => 0xB3B16459#32
  | 13 => 0x33B0FDEA#32
  | 14 => 0xB3B0A563#32
  | 15 => 0x33B05AA9#32
  | 16 => 0xB3B01DA5#32
  | 17 => 0x33AFEE43#32
  | 18 => 0xB3AFCC75#32
  | 19 => 0x33AFB831#32
  | 20 => 0xB3AFB170#32
  | 21 => 0x33AFB831#32
  | 22 => 0xB3AFCC75#32
  | 23 => 0x33AFEE43#32
  | 24 => 0xB3B01DA5#32
  | 25 => 0x33B05AA9#32
  | 26 => 0xB3B0A563#32
  | 27 => 0x33B0FDEA#32
  | 28 => 0xB3B16459#32
  | 29 => 0x33B1D8CF#32
  | 30 => 0xB3B25B72#32
  | 31 => 0x33B2EC6A#32
  | 32 => 0xB3B38BE5#32
  | 33 => 0x33B43A15#32
  | 34 => 0xB3B4F732#32
  | 35 => 0x33B5C377#32
  | 36 => 0xB3B69F28#32
  | 37 => 0x33B78A8A#32
  | 38 => 0xB3B885EC#32
  | 39 => 0x33B9919E#32
  | 40 => 0xB3BAADFB#32
  | 41 => 0x33BBDB61#32
  | 42 => 0xB3BD1A36#32
  | 43 => 0x33BE6AE7#32
  | 44 => 0xB3BFCDE6#32
  | 45 => 0x33C143B0#32
  | 46 => 0xB3C2CCC7#32
  | 47 => 0x33C469B8#32
  | 48 => 0xB3C61B15#32
  | 49 => 0x33C7E17D#32
  | 50 => 0xB3C9BD97#32
  | 51 => 0x33CBB015#32
  | 52 => 0xB3CDB9B1#32
  | 53 => 0x33CFDB34#32
  | 54 => 0xB3D21572#32
  | 55 => 0x33D4694B#32
  | 56 => 0xB3D6D7AE#32
  | 57 => 0x33D96196#32
  | 58 => 0xB3DC0810#32
  | 59 => 0x33DECC38#32
  | 60 => 0xB3E1AF3D#32
  | 61 => 0x33E4B25D#32
  | 62 => 0xB3E7D6EF#32
  | 63 => 0x33EB1E5A#32
  | 64 => 0xB3EE8A1F#32
  | 65 => 0x33F21BD6#32
  | 66 => 0xB3F5D532#32
  | 67 => 0x33F9B800#32
  | 68 => 0xB3FDC62E#32
  | 69 => 0x340100E3#32
  | 70 => 0xB403367C#32
  | 71 => 0x3405850C#32
  | 72 => 0xB407EDD1#32
  | 73 => 0x340A721F#32
  | 74 => 0xB40D1360#32
  | 75 => 0x340FD31A#32
  | 76 => 0xB412B2ED#32
  | 77 => 0x3415B495#32
  | 78 => 0xB418D9F0#32
  | 79 => 0x341C2500#32
  | 80 => 0xB41F97EA#32
  | 81 => 0x342334FF#32
  | 82 => 0xB426FEBD#32
  | 83 => 0x342AF7D2#32
  | 84 => 0xB42F2322#32
  | 85 => 0x343383CC#32
  | 86 => 0xB4381D32#32
  | 87 => 0x343CF2FA#32
  | 88 => 0xB4420919#32
  | 89 => 0x344763DA#32
  | 90 => 0xB44D07E6#32
  | 91 => 0x3452FA51#32
  | 92 => 0xB45940A1#32
  | 93 => 0x345FE0DA#32
  | 94 => 0xB466E193#32
  | 95 => 0x346E49FF#32
  | 96 => 0xB4762200#32
  | 97 => 0x347E723F#32
  | 98 => 0xB483A221#32
  | 99 => 0x34885142#32
  | 100 => 0xB48D4C4D#32
  | 101 => 0x349299A5#32
  | 102 => 0xB4984061#32
  | 103 => 0x349E485F#32
  | 104 => 0xB4A4BA5F#32
  | 105 => 0x34ABA023#32
  | 106 => 0xB4B30492#32
  | 107 => 0x34BAF3E5#32
  | 108 => 0xB4C37BD6#32
  | 109 => 0x34CCABDA#32
  | 110 => 0xB4D69568#32
  | 111 => 0x34E14C49#32
  | 112 => 0xB4ECE6F7#32
  | 113 => 0x34F97F13#32
  | 114 => 0xB50398F7#32
  | 115 => 0x350B1097#32
  | 116 => 0xB51339CD#32
  | 117 => 0x351C2B08#32
  | 118 => 0xB525FE56#32
  | 119 => 0x3530D21D#32
  | 120 => 0xB53CCA00#32
  | 121 => 0x354A0FF9#32
  | 122 => 0xB558D5BB#32
  | 123 => 0x35695670#32
  | 124 => 0xB57BD8F1#32
  | 125 => 0x3588594C#32
  | 126 => 0xB5942572#32
  | 127 => 0x35A19018#32
  | _ => 0#32

noncomputable abbrev lit0t0_297 (i : Nat) : BitVec 32 := match i % 128 with
  | 0 => 0xB5B0E6EF#32
  | 1 => 0x35C28A3B#32
  | 2 => 0xB5D6F23A#32
  | 3 => 0x35EEB658#32
  | 4 => 0xB6054B76#32
  | 5 => 0x3615C529#32
  | 6 => 0xB6296767#32
  | 7 => 0x3641014B#32
  | 8 => 0xB65DA20C#32
  | 9 => 0x368056F2#32
  | 10 => 0xB695FBC4#32
  | 11 => 0x36B0ED61#32
  | 12 => 0xB6D29E9B#32
  | 13 => 0x36FFBDB2#32
  | 14 => 0xB692EE32#32
  | 15 => 0x391EBB1A#32
  | 16 => 0x3B12D0DF#32
  | 17 => 0x3CA0086D#32
  | 18 => 0x3DBAD58B#32
  | 19 => 0x3E6BB748#32
  | 20 => 0x3EA069FE#32
  | 21 => 0x3E6BB748#32
  | 22 => 0x3DBAD58B#32
  | 23 => 0x3CA0086D#32
  | 24 => 0x3B12D0DF#32
  | 25 => 0x391EBB1A#32
  | 26 => 0xB692EE32#32
  | 27 => 0x36FFBDB2#32
  | 28 => 0xB6D29E9B#32
  | 29 => 0x36B0ED61#32
  | 30 => 0xB695FBC4#32
  | 31 => 0x368056F2#32
  | 32 => 0xB65DA20C#32
  | 33 => 0x3641014B#32
  | 34 => 0xB6296767#32
  | 35 => 0x3615C529#32
  | 36 => 0xB6054B76#32
  | 37 => 0x35EEB658#32
  | 38 => 0xB5D6F23A#32
  | 39 => 0x35C28A3B#32
  | 40 => 0xB5B0E6EF#32
  | 41 => 0x35A19018#32
  | 42 => 0xB5942572#32
  | 43 => 0x3588594C#32
  | 44 => 0xB57BD8F1#32
  | 45 => 0x35695670#32
  | 46 => 0xB558D5BB#32
  | 47 => 0x354A0FF9#32
  | 48 => 0xB53CCA00#32
  | 49 => 0x3530D21D#32
  | 50 => 0xB525FE56#32
  | 51 => 0x351C2B08#32
  | 52 => 0xB51339CD#32
  | 53 => 0x350B1097#32
  | 54 => 0xB50398F7#32
  | 55 => 0x34F97F13#32
  | 56 => 0xB4ECE6F7#32
  | 57 => 0x34E14C49#32
  | 58 => 0xB4D69568#32
  | 59 => 0x34CCABDA#32
  | 60 => 0xB4C37BD6#32
  | 61 => 0x34BAF3E5#32
  | 62 => 0xB4B30492#32
  | 63 => 0x34ABA023#32
  | 64 => 0xB4A4BA5F#32
  | 65 => 0x349E485F#32
  | 66 => 0xB4984061#32
  | 67 => 0x349299A5#32
  | 68 => 0xB48D4C4D#32
  | 69 => 0x34885142#32
  | 70 => 0xB483A221#32
  | 71 => 0x347E723F#32
  | 72 => 0xB4762200#32
  | 73 => 0x346E49FF#32
  | 74 => 0xB466E193#32
  | 75 => 0x345FE0DA#32
  | 76 => 0xB45940A1#32
  | 77 => 0x3452FA51#32
  | 78 => 0xB44D07E6#32
  | 79 => 0x344763DA#32
  | 80 => 0xB4420919#32
  | 81 => 0x343CF2FA#32
  | 82 => 0xB4381D32#32
  | 83 => 0x343383CC#32
  | 84 => 0xB42F2322#32
  | 85 => 0x342AF7D2#32
  | 86 => 0xB426FEBD#32
  | 87 => 0x342334FF#32
  | 88 => 0xB41F97EA#32
  | 89 => 0x341C2500#32
  | 90 => 0xB418D9F0#32
  | 91 => 0x3415B495#32
  | 92 => 0xB412B2ED#32
  | 93 => 0x340FD31A#32
  | 94 => 0xB40D1360#32
  | 95 => 0x340A721F#32
  | 96 => 0xB407EDD1#32
  | 97 => 0x3405850C#32
  | 98 => 0xB403367C#32
  | 99 => 0x340100E3#32
  | 100 => 0xB3FDC62E#32
  | 101 => 0x33F9B800#32
  | 102 => 0xB3F5D532#32
  | 103 => 0x33F21BD6#32
  | 104 => 0xB3EE8A1F#32
  | 105 => 0x33EB1E5A#32
  | 106 => 0xB3E7D6EF#32
  | 107 => 0x33E4B25D#32
  | 108 => 0xB3E1AF3D#32
  | 109 => 0x33DECC38#32
  | 110 => 0xB3DC0810#32
  | 111 => 0x33D96196#32
  | 112 => 0xB3D6D7AE#32
  | 113 => 0x33D4694B#32
  | 114 => 0xB3D21572#32
  | 115 => 0x33CFDB34#32
  | 116 => 0xB3CDB9B1#32
  | 117 => 0x33CBB015#32
  | 118 => 0xB3C9BD97#32
  | 119 => 0x33C7E17D#32
  | 120 => 0xB3C61B15#32
  | 121 => 0x33C469B8#32
  | 122 => 0xB3C2CCC7#32
  | 123 => 0x33C143B0#32
  | 124 => 0xB3BFCDE6#32
  | 125 => 0x33BE6AE7#32
  | 126 => 0xB3BD1A36#32
  | 127 => 0x33BBDB61#32
  | _ => 0#32

noncomputable abbrev lit0t0_298 (i : Nat) : BitVec 32 := match i % 128 with
  | 0 => 0x33BBDB61#32
  | 1 => 0xB3BAADFB#32
  | 2 => 0x33B9919E#32
  | 3 => 0xB3B885EC#32
  | 4 => 0x33B78A8A#32
  | 5 => 0xB3B69F28#32
  | 6 => 0x33B5C377#32
  | 7 => 0xB3B4F732#32
  | 8 => 0x33B43A15#32
  | 9 => 0xB3B38BE5#32
  | 10 => 0x33B2EC6A#32
  | 11 => 0xB3B25B72#32
  | 12 => 0x33B1D8CF#32
  | 13 => 0xB3B16459#32
  | 14 => 0x33B0FDEA#32
  | 15 => 0xB3B0A563#32
  | 16 => 0x33B05AA9#32
  | 17 => 0xB3B01DA5#32
  | 18 => 0x33AFEE43#32
  | 19 => 0xB3AFCC75#32
  | 20 => 0x33AFB831#32
  | 21 => 0xB3AFB170#32
  | 22 => 0x33AFB831#32
  | 23 => 0xB3AFCC75#32
  | 24 => 0x33AFEE43#32
  | 25 => 0xB3B01DA5#32
  | 26 => 0x33B05AA9#32
  | 27 => 0xB3B0A563#32
  | 28 => 0x33B0FDEA#32
  | 29 => 0xB3B16459#32
  | 30 => 0x33B1D8CF#32
  | 31 => 0xB3B25B72#32
  | 32 => 0x33B2EC6A#32
  | 33 => 0xB3B38BE5#32
  | 34 => 0x33B43A15#32
  | 35 => 0xB3B4F732#32
  | 36 => 0x33B5C377#32
  | 37 => 0xB3B69F28#32
  | 38 => 0x33B78A8A#32
  | 39 => 0xB3B885EC#32
  | 40 => 0x33B9919E#32
  | 41 => 0xB3BAADFB#32
  | 42 => 0x33BBDB61#32
  | 43 => 0xB3BD1A36#32
  | 44 => 0x33BE6AE7#32
  | 45 => 0xB3BFCDE6#32
  | 46 => 0x33C143B0#32
  | 47 => 0xB3C2CCC7#32
  | 48 => 0x33C469B8#32
  | 49 => 0xB3C61B15#32
  | 50 => 0x33C7E17D#32
  | 51 => 0xB3C9BD97#32
  | 52 => 0x33CBB015#32
  | 53 => 0xB3CDB9B1#32
  | 54 => 0x33CFDB34#32
  | 55 => 0xB3D21572#32
  | 56 => 0x33D4694B#32
  | 57 => 0xB3D6D7AE#32
  | 58 => 0x33D96196#32
  | 59 => 0xB3DC0810#32
  | 60 => 0x33DECC38#32
  | 61 => 0xB3E1AF3D#32
  | 62 => 0x33E4B25D#32
  | 63 => 0xB3E7D6EF#32
  | 64 => 0x33EB1E5A#32
  | 65 => 0xB3EE8A1F#32
  | 66 => 0x33F21BD6#32
  | 67 => 0xB3F5D532#32
  | 68 => 0x33F9B800#32
  | 69 => 0xB3FDC62E#32
  | 70 => 0x340100E3#32
  | 71 => 0xB403367C#32
  | 72 => 0x3405850C#32
  | 73 => 0xB407EDD1#32
  | 74 => 0x340A721F#32
  | 75 => 0xB40D1360#32
  | 76 => 0x340FD31A#32
  | 77 => 0xB412B2ED#32
  | 78 => 0x3415B495#32
  | 79 => 0xB418D9F0#32
  | 80 => 0x341C2500#32
  | 81 => 0xB41F97EA#32
  | 82 => 0x342334FF#32
  | 83 => 0xB426FEBD#32
  | 84 => 0x342AF7D2#32
  | 85 => 0xB42F2322#32
  | 86 => 0x343383CC#32
  | 87 => 0xB4381D32#32
  | 88 => 0x343CF2FA#32
  | 89 => 0xB4420919#32
  | 90 => 0x344763DA#32
  | 91 => 0xB44D07E6#32
  | 92 => 0x3452FA51#32
  | 93 => 0xB45940A1#32
  | 94 => 0x345FE0DA#32
  | 95 => 0xB466E193#32
  | 96 => 0x346E49FF#32
  | 97 => 0xB4762200#32
  | 98 => 0x347E723F#32
  | 99 => 0xB483A221#32
  | 100 => 0x34885143#32
  | 101 => 0xB48D4C4D#32
  | 102 => 0x349299A5#32
  | 103 => 0xB4984061#32
  | 104 => 0x349E485F#32
  | 105 => 0xB4A4BA5F#32
  | 106 => 0x34ABA023#32
  | 107 => 0xB4B30492#32
  | 108 => 0x34BAF3E5#32
  | 109 => 0xB4C37BD6#32
  | 110 => 0x34CCABDA#32
  | 111 => 0xB4D69568#32
  | 112 => 0x34E14C49#32
  | 113 => 0xB4ECE6F7#32
  | 114 => 0x34F97F13#32
  | 115 => 0xB50398F7#32
  | 116 => 0x350B1097#32
  | 117 => 0xB51339CD#32
  | 118 => 0x351C2B08#32
  | 119 => 0xB525FE56#32
  | 120 => 0x3530D21D#32
  | 121 => 0xB53CCA00#32
  | 122 => 0x354A0FF9#32
  | 123 => 0xB558D5BB#32
  | 124 => 0x35695670#32
  | 125 => 0xB57BD8F1#32
  | 126 => 0x3588594C#32
  | 127 => 0xB5942572#32
  | _ => 0#32

noncomputable abbrev lit0t0_299 (i : Nat) : BitVec 32 := match i % 128 with
  | 0 => 0x35A19018#32
  | 1 => 0xB5B0E6EF#32
  | 2 => 0x35C28A3B#32
  | 3 => 0xB5D6F23A#32
  | 4 => 0x35EEB658#32
  | 5 => 0xB6054B76#32
  | 6 => 0x3615C529#32
  | 7 => 0xB6296767#32
  | 8 => 0x3641014B#32
  | 9 => 0xB65DA20C#32
  | 10 => 0x368056F2#32
  | 11 => 0xB695FBC4#32
  | 12 => 0x36B0ED61#32
  | 13 => 0xB6D29E9B#32
  | 14 => 0x36FFBDB2#32
  | 15 => 0xB692EE32#32
  | 16 => 0x391EBB1A#32
  | 17 => 0x3B12D0DF#32
  | 18 => 0x3CA0086D#32
  | 19 => 0x3DBAD58B#32
  | 20 => 0x3E6BB748#32
  | 21 => 0x3EA069FE#32
  | 22 => 0x3E6BB748#32
  | 23 => 0x3DBAD58B#32
  | 24 => 0x3CA0086D#32
  | 25 => 0x3B12D0DF#32
  | 26 => 0x391EBB1A#32
  | 27 => 0xB692EE32#32
  | 28 => 0x36FFBDB2#32
  | 29 => 0xB6D29E9B#32
  | 30 => 0x36B0ED61#32
  | 31 => 0xB695FBC4#32
  | 32 => 0x368056F2#32
  | 33 => 0xB65DA20C#32
  | 34 => 0x3641014B#32
  | 35 => 0xB6296767#32
  | 36 => 0x3615C529#32
  | 37 => 0xB6054B76#32
  | 38 => 0x35EEB658#32
  | 39 => 0xB5D6F23A#32
  | 40 => 0x35C28A3B#32
  | 41 => 0xB5B0E6EF#32
  | 42 => 0x35A19018#32
  | 43 => 0xB5942572#32
  | 44 => 0x3588594C#32
  | 45 => 0xB57BD8F1#32
  | 46 => 0x35695670#32
  | 47 => 0xB558D5BB#32
  | 48 => 0x354A0FF9#32
  | 49 => 0xB53CCA00#32
  | 50 => 0x3530D21D#32
  | 51 => 0xB525FE56#32
  | 52 => 0x351C2B08#32
  | 53 => 0xB51339CD#32
  | 54 => 0x350B1097#32
  | 55 => 0xB50398F7#32
  | 56 => 0x34F97F13#32
  | 57 => 0xB4ECE6F7#32
  | 58 => 0x34E14C49#32
  | 59 => 0xB4D69568#32
  | 60 => 0x34CCABDA#32
  | 61 => 0xB4C37BD6#32
  | 62 => 0x34BAF3E5#32
  | 63 => 0xB4B30492#32
  | 64 => 0x34ABA023#32
  | 65 => 0xB4A4BA5F#32
  | 66 => 0x349E485F#32
  | 67 => 0xB4984061#32
  | 68 => 0x349299A5#32
  | 69 => 0xB48D4C4D#32
  | 70 => 0x34885143#32
  | 71 => 0xB483A221#32
  | 72 => 0x347E723F#32
  | 73 => 0xB4762200#32
  | 74 => 0x346E49FF#32
  | 75 => 0xB466E193#32
  | 76 => 0x345FE0DA#32
  | 77 => 0xB45940A1#32
  | 78 => 0x3452FA51#32
  | 79 => 0xB44D07E6#32
  | 80 => 0x344763DA#32
  | 81 => 0xB4420919#32
  | 82 => 0x343CF2FA#32
  | 83 => 0xB4381D32#32
  | 84 => 0x343383CC#32
  | 85 => 0xB42F2322#32
  | 86 => 0x342AF7D2#32
  | 87 => 0xB426FEBD#32
  | 88 => 0x342334FF#32
  | 89 => 0xB41F97EA#32
  | 90 => 0x341C2500#32
  | 91 => 0xB418D9F0#32
  | 92 => 0x3415B495#32
  | 93 => 0xB412B2ED#32
  | 94 => 0x340FD31A#32
  | 95 => 0xB40D1360#32
  | 96 => 0x340A721F#32
  | 97 => 0xB407EDD1#32
  | 98 => 0x3405850C#32
  | 99 => 0xB403367C#32
  | 100 => 0x340100E3#32
  | 101 => 0xB3FDC62E#32
  | 102 => 0x33F9B800#32
  | 103 => 0xB3F5D532#32
  | 104 => 0x33F21BD6#32
  | 105 => 0xB3EE8A1F#32
  | 106 => 0x33EB1E5A#32
  | 107 => 0xB3E7D6EF#32
  | 108 => 0x33E4B25D#32
  | 109 => 0xB3E1AF3D#32
  | 110 => 0x33DECC38#32
  | 111 => 0xB3DC0810#32
  | 112 => 0x33D96196#32
  | 113 => 0xB3D6D7AE#32
  | 114 => 0x33D4694B#32
  | 115 => 0xB3D21572#32
  | 116 => 0x33CFDB34#32
  | 117 => 0xB3CDB9B1#32
  | 118 => 0x33CBB015#32
  | 119 => 0xB3C9BD97#32
  | 120 => 0x33C7E17D#32
  | 121 => 0xB3C61B15#32
  | 122 => 0x33C469B8#32
  | 123 => 0xB3C2CCC7#32
  | 124 => 0x33C143B0#32
  | 125 => 0xB3BFCDE6#32
  | 126 => 0x33BE6AE7#32
  | 127 => 0xB3BD1A36#32
  | _ => 0#32

noncomputable abbrev lit0t0_300 (i : Nat) : BitVec 32 := match i % 128 with
  | 0 => 0xB3BD1A36#32
  | 1 => 0x33BBDB61#32
  | 2 => 0xB3BAADFB#32
  | 3 => 0x33B9919E#32
  | 4 => 0xB3B885EC#32
  | 5 => 0x33B78A8A#32
  | 6 => 0xB3B69F28#32
  | 7 => 0x33B5C377#32
  | 8 => 0xB3B4F732#32
  | 9 => 0x33B43A15#32
  | 10 => 0xB3B38BE5#32
  | 11 => 0x33B2EC6A#32
  | 12 => 0xB3B25B72#32
  | 13 => 0x33B1D8CF#32
  | 14 => 0xB3B16459#32
  | 15 => 0x33B0FDEA#32
  | 16 => 0xB3B0A563#32
  | 17 => 0x33B05AA9#32
  | 18 => 0xB3B01DA5#32
  | 19 => 0x33AFEE43#32
  | 20 => 0xB3AFCC75#32
  | 21 => 0x33AFB831#32
  | 22 => 0xB3AFB170#32
  | 23 => 0x33AFB831#32
  | 24 => 0xB3AFCC75#32
  | 25 => 0x33AFEE43#32
  | 26 => 0xB3B01DA5#32
  | 27 => 0x33B05AA9#32
  | 28 => 0xB3B0A563#32
  | 29 => 0x33B0FDEA#32
  | 30 => 0xB3B16459#32
  | 31 => 0x33B1D8CF#32
  | 32 => 0xB3B25B72#32
  | 33 => 0x33B2EC6A#32
  | 34 => 0xB3B38BE5#32
  | 35 => 0x33B43A15#32
  | 36 => 0xB3B4F732#32
  | 37 => 0x33B5C377#32
  | 38 => 0xB3B69F28#32
  | 39 => 0x33B78A8A#32
  | 40 => 0xB3B885EC#32
  | 41 => 0x33B9919E#32
  | 42 => 0xB3BAADFB#32
  | 43 => 0x33BBDB61#32
  | 44 => 0xB3BD1A36#32
  | 45 => 0x33BE6AE7#32
  | 46 => 0xB3BFCDE6#32
  | 47 => 0x33C143B0#32
  | 48 => 0xB3C2CCC7#32
  | 49 => 0x33C469B8#32
  | 50 => 0xB3C61B15#32
  | 51 => 0x33C7E17D#32
  | 52 => 0xB3C9BD97#32
  | 53 => 0x33CBB015#32
  | 54 => 0xB3CDB9B1#32
  | 55 => 0x33CFDB34#32
  | 56 => 0xB3D21572#32
  | 57 => 0x33D4694B#32
  | 58 => 0xB3D6D7AE#32
  | 59 => 0x33D96196#32
  | 60 => 0xB3DC0810#32
  | 61 => 0x33DECC38#32
  | 62 => 0xB3E1AF3D#32
  | 63 => 0x33E4B25D#32
  | 64 => 0xB3E7D6EF#32
  | 65 => 0x33EB1E5A#32
  | 66 => 0xB3EE8A1F#32
  | 67 => 0x33F21BD6#32
  | 68 => 0xB3F5D532#32
  | 69 => 0x33F9B800#32
  | 70 => 0xB3FDC62E#32
  | 71 => 0x340100E3#32
  | 72 => 0xB403367C#32
  | 73 => 0x3405850C#32
  | 74 => 0xB407EDD1#32
  | 75 => 0x340A721F#32
  | 76 => 0xB40D1360#32
  | 77 => 0x340FD31A#32
  | 78 => 0xB412B2ED#32
  | 79 => 0x3415B495#32
  | 80 => 0xB418D9F0#32
  | 81 => 0x341C2500#32
  | 82 => 0xB41F97EA#32
  | 83 => 0x342334FF#32
  | 84 => 0xB426FEBD#32
  | 85 => 0x342AF7D2#32
  | 86 => 0xB42F2322#32
  | 87 => 0x343383CC#32
  | 88 => 0xB4381D32#32
  | 89 => 0x343CF2FA#32
  | 90 => 0xB4420919#32
  | 91 => 0x344763DA#32
  | 92 => 0xB44D07E6#32
  | 93 => 0x3452FA51#32
  | 94 => 0xB45940A1#32
  | 95 => 0x345FE0DA#32
  | 96 => 0xB466E193#32
  | 97 => 0x346E49FF#32
  | 98 => 0xB4762200#32
  | 99 => 0x347E723F#32
  | 100 => 0xB483A221#32
  | 101 => 0x34885143#32
  | 102 => 0xB48D4C4D#32
  | 103 => 0x349299A5#32
  | 104 => 0xB4984061#32
  | 105 => 0x349E485F#32
  | 106 => 0xB4A4BA5F#32
  | 107 => 0x34ABA023#32
  | 108 => 0xB4B30492#32
  | 109 => 0x34BAF3E5#32
  | 110 => 0xB4C37BD6#32
  | 111 => 0x34CCABDA#32
  | 112 => 0xB4D69568#32
  | 113 => 0x34E14C49#32
  | 114 => 0xB4ECE6F7#32
  | 115 => 0x34F97F13#32
  | 116 => 0xB50398F7#32
  | 117 => 0x350B1097#32
  | 118 => 0xB51339CD#32
  | 119 => 0x351C2B08#32
  | 120 => 0xB525FE56#32
  | 121 => 0x3530D21D#32
  | 122 => 0xB53CCA00#32
  | 123 => 0x354A0FF9#32
  | 124 => 0xB558D5BB#32
  | 125 => 0x35695670#32
  | 126 => 0xB57BD8F1#32
  | 127 => 0x3588594C#32
  | _ => 0#32

noncomputable abbrev lit0t0_301 (i : Nat) : BitVec 32 := match i % 128 with
  | 0 => 0xB5942572#32
  | 1 => 0x35A19018#32
  | 2 => 0xB5B0E6EF#32
  | 3 => 0x35C28A3B#32
  | 4 => 0xB5D6F23A#32
  | 5 => 0x35EEB658#32
  | 6 => 0xB6054B76#32
  | 7 => 0x3615C529#32
  | 8 => 0xB6296767#32
  | 9 => 0x3641014B#32
  | 10 => 0xB65DA20C#32
  | 11 => 0x368056F2#32
  | 12 => 0xB695FBC4#32
  | 13 => 0x36B0ED61#32
  | 14 => 0xB6D29E9B#32
  | 15 => 0x36FFBDB2#32
  | 16 => 0xB692EE32#32
  | 17 => 0x391EBB1A#32
  | 18 => 0x3B12D0DF#32
  | 19 => 0x3CA0086D#32
  | 20 => 0x3DBAD58B#32
  | 21 => 0x3E6BB748#32
  | 22 => 0x3EA069FE#32
  | 23 => 0x3E6BB748#32
  | 24 => 0x3DBAD58B#32
  | 25 => 0x3CA0086D#32
  | 26 => 0x3B12D0DF#32
  | 27 => 0x391EBB1A#32
  | 28 => 0xB692EE32#32
  | 29 => 0x36FFBDB2#32
  | 30 => 0xB6D29E9B#32
  | 31 => 0x36B0ED61#32
  | 32 => 0xB695FBC4#32
  | 33 => 0x368056F2#32
  | 34 => 0xB65DA20C#32
  | 35 => 0x3641014B#32
  | 36 => 0xB6296767#32
  | 37 => 0x3615C529#32
  | 38 => 0xB6054B76#32
  | 39 => 0x35EEB658#32
  | 40 => 0xB5D6F23A#32
  | 41 => 0x35C28A3B#32
  | 42 => 0xB5B0E6EF#32
  | 43 => 0x35A19018#32
  | 44 => 0xB5942572#32
  | 45 => 0x3588594C#32
  | 46 => 0xB57BD8F1#32
  | 47 => 0x35695670#32
  | 48 => 0xB558D5BB#32
  | 49 => 0x354A0FF9#32
  | 50 => 0xB53CCA00#32
  | 51 => 0x3530D21D#32
  | 52 => 0xB525FE56#32
  | 53 => 0x351C2B08#32
  | 54 => 0xB51339CD#32
  | 55 => 0x350B1097#32
  | 56 => 0xB50398F7#32
  | 57 => 0x34F97F13#32
  | 58 => 0xB4ECE6F7#32
  | 59 => 0x34E14C49#32
  | 60 => 0xB4D69568#32
  | 61 => 0x34CCABDA#32
  | 62 => 0xB4C37BD6#32
  | 63 => 0x34BAF3E5#32
  | 64 => 0xB4B30492#32
  | 65 => 0x34ABA023#32
  | 66 => 0xB4A4BA5F#32
  | 67 => 0x349E485F#32
  | 68 => 0xB4984061#32
  | 69 => 0x349299A5#32
  | 70 => 0xB48D4C4D#32
  | 71 => 0x34885143#32
  | 72 => 0xB483A221#32
  | 73 => 0x347E723F#32
  | 74 => 0xB4762200#32
  | 75 => 0x346E49FF#32
  | 76 => 0xB466E193#32
  | 77 => 0x345FE0DA#32
  | 78 => 0xB45940A1#32
  | 79 => 0x3452FA51#32
  | 80 => 0xB44D07E6#32
  | 81 => 0x344763DA#32
  | 82 => 0xB4420919#32
  | 83 => 0x343CF2FA#32
  | 84 => 0xB4381D32#32
  | 85 => 0x343383CC#32
  | 86 => 0xB42F2322#32
  | 87 => 0x342AF7D2#32
  | 88 => 0xB426FEBD#32
  | 89 => 0x342334FF#32
  | 90 => 0xB41F97EA#32
  | 91 => 0x341C2500#32
  | 92 => 0xB418D9F0#32
  | 93 => 0x3415B495#32
  | 94 => 0xB412B2ED#32
  | 95 => 0x340FD31A#32
  | 96 => 0xB40D1360#32
  | 97 => 0x340A721F#32
  | 98 => 0xB407EDD1#32
  | 99 => 0x3405850C#32
  | 100 => 0xB403367C#32
  | 101 => 0x340100E3#32
  | 102 => 0xB3FDC62E#32
  | 103 => 0x33F9B800#32
  | 104 => 0xB3F5D532#32
  | 105 => 0x33F21BD6#32
  | 106 => 0xB3EE8A1F#32
  | 107 => 0x33EB1E5A#32
  | 108 => 0xB3E7D6EF#32
  | 109 => 0x33E4B25D#32
  | 110 => 0xB3E1AF3D#32
  | 111 => 0x33DECC38#32
  | 112 => 0xB3DC0810#32
  | 113 => 0x33D96196#32
  | 114 => 0xB3D6D7AE#32
  | 115 => 0x33D4694B#32
  | 116 => 0xB3D21572#32
  | 117 => 0x33CFDB34#32
  | 118 => 0xB3CDB9B1#32
  | 119 => 0x33CBB015#32
  | 120 => 0xB3C9BD97#32
  | 121 => 0x33C7E17D#32
  | 122 => 0xB3C61B15#32
  | 123 => 0x33C469B8#32
  | 124 => 0xB3C2CCC7#32
  | 125 => 0x33C143B0#32
  | 126 => 0xB3BFCDE6#32
  | 127 => 0x33BE6AE7#32
  | _ => 0#32

noncomputable abbrev lit0t0_302 (i : Nat) : BitVec 32 := match i % 128 with
  | 0 => 0x33BE6AE7#32
  | 1 => 0xB3BD1A36#32
  | 2 => 0x33BBDB61#32
  | 3 => 0xB3BAADFB#32
  | 4 => 0x33B9919E#32
  | 5 => 0xB3B885EC#32
  | 6 => 0x33B78A8A#32
  | 7 => 0xB3B69F28#32
  | 8 => 0x33B5C377#32
  | 9 => 0xB3B4F732#32
  | 10 => 0x33B43A15#32
  | 11 => 0xB3B38BE5#32
  | 12 => 0x33B2EC6A#32
  | 13 => 0xB3B25B72#32
  | 14 => 0x33B1D8CF#32
  | 15 => 0xB3B16459#32
  | 16 => 0x33B0FDEA#32
  | 17 => 0xB3B0A563#32
  | 18 => 0x33B05AA9#32
  | 19 => 0xB3B01DA5#32
  | 20 => 0x33AFEE43#32
  | 21 => 0xB3AFCC75#32
  | 22 => 0x33AFB831#32
  | 23 => 0xB3AFB170#32
  | 24 => 0x33AFB831#32
  | 25 => 0xB3AFCC75#32
  | 26 => 0x33AFEE43#32
  | 27 => 0xB3B01DA5#32
  | 28 => 0x33B05AA9#32
  | 29 => 0xB3B0A563#32
  | 30 => 0x33B0FDEA#32
  | 31 => 0xB3B16459#32
  | 32 => 0x33B1D8CF#32
  | 33 => 0xB3B25B72#32
  | 34 => 0x33B2EC6A#32
  | 35 => 0xB3B38BE5#32
  | 36 => 0x33B43A15#32
  | 37 => 0xB3B4F732#32
  | 38 => 0x33B5C377#32
  | 39 => 0xB3B69F28#32
  | 40 => 0x33B78A8A#32
  | 41 => 0xB3B885EC#32
  | 42 => 0x33B9919E#32
  | 43 => 0xB3BAADFB#32
  | 44 => 0x33BBDB61#32
  | 45 => 0xB3BD1A36#32
  | 46 => 0x33BE6AE7#32
  | 47 => 0xB3BFCDE6#32
  | 48 => 0x33C143B0#32
  | 49 => 0xB3C2CCC7#32
  | 50 => 0x33C469B8#32
  | 51 => 0xB3C61B15#32
  | 52 => 0x33C7E17D#32
  | 53 => 0xB3C9BD97#32
  | 54 => 0x33CBB015#32
  | 55 => 0xB3CDB9B1#32
  | 56 => 0x33CFDB34#32
  | 57 => 0xB3D21572#32
  | 58 => 0x33D4694B#32
  | 59 => 0xB3D6D7AE#32
  | 60 => 0x33D96196#32
  | 61 => 0xB3DC0810#32
  | 62 => 0x33DECC38#32
  | 63 => 0xB3E1AF3D#32
  | 64 => 0x33E4B25D#32
  | 65 => 0xB3E7D6EF#32
  | 66 => 0x33EB1E5A#32
  | 67 => 0xB3EE8A1F#32
  | 68 => 0x33F21BD6#32
  | 69 => 0xB3F5D532#32
  | 70 => 0x33F9B800#32
  | 71 => 0xB3FDC62E#32
  | 72 => 0x340100E3#32
  | 73 => 0xB403367C#32
  | 74 => 0x3405850C#32
  | 75 => 0xB407EDD1#32
  | 76 => 0x340A721F#32
  | 77 => 0xB40D1360#32
  | 78 => 0x340FD31A#32
  | 79 => 0xB412B2ED#32
  | 80 => 0x3415B495#32
  | 81 => 0xB418D9F0#32
  | 82 => 0x341C2500#32
  | 83 => 0xB41F97EA#32
  | 84 => 0x342334FF#32
  | 85 => 0xB426FEBD#32
  | 86 => 0x342AF7D2#32
  | 87 => 0xB42F2322#32
  | 88 => 0x343383CC#32
  | 89 => 0xB4381D32#32
  | 90 => 0x343CF2FA#32
  | 91 => 0xB4420919#32
  | 92 => 0x344763DA#32
  | 93 => 0xB44D07E6#32
  | 94 => 0x3452FA51#32
  | 95 => 0xB45940A1#32
  | 96 => 0x345FE0DA#32
  | 97 => 0xB466E193#32
  | 98 => 0x346E49FF#32
  | 99 => 0xB4762200#32
  | 100 => 0x347E723F#32
  | 101 => 0xB483A221#32
  | 102 => 0x34885142#32
  | 103 => 0xB48D4C4D#32
  | 104 => 0x349299A5#32
  | 105 => 0xB4984061#32
  | 106 => 0x349E485F#32
  | 107 => 0xB4A4BA5F#32
  | 108 => 0x34ABA023#32
  | 109 => 0xB4B30492#32
  | 110 => 0x34BAF3E5#32
  | 111 => 0xB4C37BD6#32
  | 112 => 0x34CCABDA#32
  | 113 => 0xB4D69568#32
  | 114 => 0x34E14C49#32
  | 115 => 0xB4ECE6F7#32
  | 116 => 0x34F97F13#32
  | 117 => 0xB50398F7#32
  | 118 => 0x350B1097#32
  | 119 => 0xB51339CD#32
  | 120 => 0x351C2B08#32
  | 121 => 0xB525FE56#32
  | 122 => 0x3530D21D#32
  | 123 => 0xB53CCA00#32
  | 124 => 0x354A0FF9#32
  | 125 => 0xB558D5BB#32
  | 126 => 0x35695670#32
  | 127 => 0xB57BD8F1#32
  | _ => 0#32

noncomputable abbrev lit0t0_303 (i : Nat) : BitVec 32 := match i % 128 with
  | 0 => 0x3588594C#32
  | 1 => 0xB5942572#32
  | 2 => 0x35A19018#32
  | 3 => 0xB5B0E6EF#32
  | 4 => 0x35C28A3B#32
  | 5 => 0xB5D6F23A#32
  | 6 => 0x35EEB658#32
  | 7 => 0xB6054B76#32
  | 8 => 0x3615C529#32
  | 9 => 0xB6296767#32
  | 10 => 0x3641014B#32
  | 11 => 0xB65DA20C#32
  | 12 => 0x368056F2#32
  | 13 => 0xB695FBC4#32
  | 14 => 0x36B0ED61#32
  | 15 => 0xB6D29E9B#32
  | 16 => 0x36FFBDB2#32
  | 17 => 0xB692EE32#32
  | 18 => 0x391EBB1A#32
  | 19 => 0x3B12D0DF#32
  | 20 => 0x3CA0086D#32
  | 21 => 0x3DBAD58B#32
  | 22 => 0x3E6BB748#32
  | 23 => 0x3EA069FE#32
  | 24 => 0x3E6BB748#32
  | 25 => 0x3DBAD58B#32
  | 26 => 0x3CA0086D#32
  | 27 => 0x3B12D0DF#32
  | 28 => 0x391EBB1A#32
  | 29 => 0xB692EE32#32
  | 30 => 0x36FFBDB2#32
  | 31 => 0xB6D29E9B#32
  | 32 => 0x36B0ED61#32
  | 33 => 0xB695FBC4#32
  | 34 => 0x368056F2#32
  | 35 => 0xB65DA20C#32
  | 36 => 0x3641014B#32
  | 37 => 0xB6296767#32
  | 38 => 0x3615C529#32
  | 39 => 0xB6054B76#32
  | 40 => 0x35EEB658#32
  | 41 => 0xB5D6F23A#32
  | 42 => 0x35C28A3B#32
  | 43 => 0xB5B0E6EF#32
  | 44 => 0x35A19018#32
  | 45 => 0xB5942572#32
  | 46 => 0x3588594C#32
  | 47 => 0xB57BD8F1#32
  | 48 => 0x35695670#32
  | 49 => 0xB558D5BB#32
  | 50 => 0x354A0FF9#32
  | 51 => 0xB53CCA00#32
  | 52 => 0x3530D21D#32
  | 53 => 0xB525FE56#32
  | 54 => 0x351C2B08#32
  | 55 => 0xB51339CD#32
  | 56 => 0x350B1097#32
  | 57 => 0xB50398F7#32
  | 58 => 0x34F97F13#32
  | 59 => 0xB4ECE6F7#32
  | 60 => 0x34E14C49#32
  | 61 => 0xB4D69568#32
  | 62 => 0x34CCABDA#32
  | 63 => 0xB4C37BD6#32
  | 64 => 0x34BAF3E5#32
  | 65 => 0xB4B30492#32
  | 66 => 0x34ABA023#32
  | 67 => 0xB4A4BA5F#32
  | 68 => 0x349E485F#32
  | 69 => 0xB4984061#32
  | 70 => 0x349299A5#32
  | 71 => 0xB48D4C4D#32
  | 72 => 0x34885143#32
  | 73 => 0xB483A221#32
  | 74 => 0x347E723F#32
  | 75 => 0xB4762200#32
  | 76 => 0x346E49FF#32
  | 77 => 0xB466E193#32
  | 78 => 0x345FE0DA#32
  | 79 => 0xB45940A1#32
  | 80 => 0x3452FA51#32
  | 81 => 0xB44D07E6#32
  | 82 => 0x344763DA#32
  | 83 => 0xB4420919#32
  | 84 => 0x343CF2FA#32
  | 85 => 0xB4381D32#32
  | 86 => 0x343383CC#32
  | 87 => 0xB42F2322#32
  | 88 => 0x342AF7D2#32
  | 89 => 0xB426FEBD#32
  | 90 => 0x342334FF#32
  | 91 => 0xB41F97EA#32
  | 92 => 0x341C2500#32
  | 93 => 0xB418D9F0#32
  | 94 => 0x3415B495#32
  | 95 => 0xB412B2ED#32
  | 96 => 0x340FD31A#32
  | 97 => 0xB40D1360#32
  | 98 => 0x340A721F#32
  | 99 => 0xB407EDD1#32
  | 100 => 0x3405850C#32
  | 101 => 0xB403367C#32
  | 102 => 0x340100E3#32
  | 103 => 0xB3FDC62E#32
  | 104 => 0x33F9B800#32
  | 105 => 0xB3F5D532#32
  | 106 => 0x33F21BD6#32
  | 107 => 0xB3EE8A1F#32
  | 108 => 0x33EB1E5A#32
  | 109 => 0xB3E7D6EF#32
  | 110 => 0x33E4B25D#32
  | 111 => 0xB3E1AF3D#32
  | 112 => 0x33DECC38#32
  | 113 => 0xB3DC0810#32
  | 114 => 0x33D96196#32
  | 115 => 0xB3D6D7AE#32
  | 116 => 0x33D4694B#32
  | 117 => 0xB3D21572#32
  | 118 => 0x33CFDB34#32
  | 119 => 0xB3CDB9B1#32
  | 120 => 0x33CBB015#32
  | 121 => 0xB3C9BD97#32
  | 122 => 0x33C7E17D#32
  | 123 => 0xB3C61B15#32
  | 124 => 0x33C469B8#32
  | 125 => 0xB3C2CCC7#32
  | 126 => 0x33C143B0#32
  | 127 => 0xB3BFCDE6#32
  | _ => 0#32

noncomputable abbrev lit0t0_304 (i : Nat) : BitVec 32 := match i % 128 with
  | 0 => 0xB3BFCDE6#32
  | 1 => 0x33BE6AE7#32
  | 2 => 0xB3BD1A36#32
  | 3 => 0x33BBDB61#32
  | 4 => 0xB3BAADFB#32
  | 5 => 0x33B9919E#32
  | 6 => 0xB3B885EC#32
  | 7 => 0x33B78A8A#32
  | 8 => 0xB3B69F28#32
  | 9 => 0x33B5C377#32
  | 10 => 0xB3B4F732#32
  | 11 => 0x33B43A15#32
  | 12 => 0xB3B38BE5#32
  | 13 => 0x33B2EC6A#32
  | 14 => 0xB3B25B72#32
  | 15 => 0x33B1D8CF#32
  | 16 => 0xB3B16459#32
  | 17 => 0x33B0FDEA#32
  | 18 => 0xB3B0A563#32
  | 19 => 0x33B05AA9#32
  | 20 => 0xB3B01DA5#32
  | 21 => 0x33AFEE43#32
  | 22 => 0xB3AFCC75#32
  | 23 => 0x33AFB831#32
  | 24 => 0xB3AFB170#32
  | 25 => 0x33AFB831#32
  | 26 => 0xB3AFCC75#32
  | 27 => 0x33AFEE43#32
  | 28 => 0xB3B01DA5#32
  | 29 => 0x33B05AA9#32
  | 30 => 0xB3B0A563#32
  | 31 => 0x33B0FDEA#32
  | 32 => 0xB3B16459#32
  | 33 => 0x33B1D8CF#32
  | 34 => 0xB3B25B72#32
  | 35 => 0x33B2EC6A#32
  | 36 => 0xB3B38BE5#32
  | 37 => 0x33B43A15#32
  | 38 => 0xB3B4F732#32
  | 39 => 0x33B5C377#32
  | 40 => 0xB3B69F28#32
  | 41 => 0x33B78A8A#32
  | 42 => 0xB3B885EC#32
  | 43 => 0x33B9919E#32
  | 44 => 0xB3BAADFB#32
  | 45 => 0x33BBDB61#32
  | 46 => 0xB3BD1A36#32
  | 47 => 0x33BE6AE7#32
  | 48 => 0xB3BFCDE6#32
  | 49 => 0x33C143B0#32
  | 50 => 0xB3C2CCC7#32
  | 51 => 0x33C469B8#32
  | 52 => 0xB3C61B15#32
  | 53 => 0x33C7E17D#32
  | 54 => 0xB3C9BD97#32
  | 55 => 0x33CBB015#32
  | 56 => 0xB3CDB9B1#32
  | 57 => 0x33CFDB34#32
  | 58 => 0xB3D21572#32
  | 59 => 0x33D4694B#32
  | 60 => 0xB3D6D7AE#32
  | 61 => 0x33D96196#32
  | 62 => 0xB3DC0810#32
  | 63 => 0x33DECC38#32
  | 64 => 0xB3E1AF3D#32
  | 65 => 0x33E4B25D#32
  | 66 => 0xB3E7D6EF#32
  | 67 => 0x33EB1E5A#32
  | 68 => 0xB3EE8A1F#32
  | 69 => 0x33F21BD6#32
  | 70 => 0xB3F5D532#32
  | 71 => 0x33F9B800#32
  | 72 => 0xB3FDC62E#32
  | 73 => 0x340100E3#32
  | 74 => 0xB403367C#32
  | 75 => 0x3405850C#32
  | 76 => 0xB407EDD1#32
  | 77 => 0x340A721F#32
  | 78 => 0xB40D1360#32
  | 79 => 0x340FD31A#32
  | 80 => 0xB412B2ED#32
  | 81 => 0x3415B495#32
  | 82 => 0xB418D9F0#32
  | 83 => 0x341C2500#32
  | 84 => 0xB41F97EA#32
  | 85 => 0x342334FF#32
  | 86 => 0xB426FEBD#32
  | 87 => 0x342AF7D2#32
  | 88 => 0xB42F2322#32
  | 89 => 0x343383CC#32
  | 90 => 0xB4381D32#32
  | 91 => 0x343CF2FA#32
  | 92 => 0xB4420919#32
  | 93 => 0x344763DA#32
  | 94 => 0xB44D07E6#32
  | 95 => 0x3452FA51#32
  | 96 => 0xB45940A1#32
  | 97 => 0x345FE0DA#32
  | 98 => 0xB466E193#32
  | 99 => 0x346E49FF#32
  | 100 => 0xB4762200#32
  | 101 => 0x347E723F#32
  | 102 => 0xB483A221#32
  | 103 => 0x34885143#32
  | 104 => 0xB48D4C4D#32
  | 105 => 0x349299A5#32
  | 106 => 0xB4984061#32
  | 107 => 0x349E485F#32
  | 108 => 0xB4A4BA5F#32
  | 109 => 0x34ABA023#32
  | 110 => 0xB4B30492#32
  | 111 => 0x34BAF3E5#32
  | 112 => 0xB4C37BD6#32
  | 113 => 0x34CCABDA#32
  | 114 => 0xB4D69568#32
  | 115 => 0x34E14C49#32
  | 116 => 0xB4ECE6F7#32
  | 117 => 0x34F97F13#32
  | 118 => 0xB50398F7#32
  | 119 => 0x350B1097#32
  | 120 => 0xB51339CD#32
  | 121 => 0x351C2B08#32
  | 122 => 0xB525FE56#32
  | 123 => 0x3530D21D#32
  | 124 => 0xB53CCA00#32
  | 125 => 0x354A0FF9#32
  | 126 => 0xB558D5BB#32
  | 127 => 0x35695670#32
  | _ => 0#32

noncomputable abbrev lit0t0_305 (i : Nat) : BitVec 32 := match i % 128 with
  | 0 => 0xB57BD8F1#32
  | 1 => 0x3588594C#32
  | 2 => 0xB5942572#32
  | 3 => 0x35A19018#32
  | 4 => 0xB5B0E6EF#32
  | 5 => 0x35C28A3B#32
  | 6 => 0xB5D6F23A#32
  | 7 => 0x35EEB658#32
  | 8 => 0xB6054B76#32
  | 9 => 0x3615C529#32
  | 10 => 0xB6296767#32
  | 11 => 0x3641014B#32
  | 12 => 0xB65DA20C#32
  | 13 => 0x368056F2#32
  | 14 => 0xB695FBC4#32
  | 15 => 0x36B0ED61#32
  | 16 => 0xB6D29E9B#32
  | 17 => 0x36FFBDB2#32
  | 18 => 0xB692EE32#32
  | 19 => 0x391EBB1A#32
  | 20 => 0x3B12D0DF#32
  | 21 => 0x3CA0086D#32
  | 22 => 0x3DBAD58B#32
  | 23 => 0x3E6BB748#32
  | 24 => 0x3EA069FE#32
  | 25 => 0x3E6BB748#32
  | 26 => 0x3DBAD58B#32
  | 27 => 0x3CA0086D#32
  | 28 => 0x3B12D0DF#32
  | 29 => 0x391EBB1A#32
  | 30 => 0xB692EE32#32
  | 31 => 0x36FFBDB2#32
  | 32 => 0xB6D29E9B#32
  | 33 => 0x36B0ED61#32
  | 34 => 0xB695FBC4#32
  | 35 => 0x368056F2#32
  | 36 => 0xB65DA20C#32
  | 37 => 0x3641014B#32
  | 38 => 0xB6296767#32
  | 39 => 0x3615C529#32
  | 40 => 0xB6054B76#32
  | 41 => 0x35EEB658#32
  | 42 => 0xB5D6F23A#32
  | 43 => 0x35C28A3B#32
  | 44 => 0xB5B0E6EF#32
  | 45 => 0x35A19018#32
  | 46 => 0xB5942572#32
  | 47 => 0x3588594C#32
  | 48 => 0xB57BD8F1#32
  | 49 => 0x35695670#32
  | 50 => 0xB558D5BB#32
  | 51 => 0x354A0FF9#32
  | 52 => 0xB53CCA00#32
  | 53 => 0x3530D21D#32
  | 54 => 0xB525FE56#32
  | 55 => 0x351C2B08#32
  | 56 => 0xB51339CD#32
  | 57 => 0x350B1097#32
  | 58 => 0xB50398F7#32
  | 59 => 0x34F97F13#32
  | 60 => 0xB4ECE6F7#32
  | 61 => 0x34E14C49#32
  | 62 => 0xB4D69568#32
  | 63 => 0x34CCABDA#32
  | 64 => 0xB4C37BD6#32
  | 65 => 0x34BAF3E5#32
  | 66 => 0xB4B30492#32
  | 67 => 0x34ABA023#32
  | 68 => 0xB4A4BA5F#32
  | 69 => 0x349E485F#32
  | 70 => 0xB4984061#32
  | 71 => 0x349299A5#32
  | 72 => 0xB48D4C4D#32
  | 73 => 0x34885143#32
  | 74 => 0xB483A221#32
  | 75 => 0x347E723F#32
  | 76 => 0xB4762200#32
  | 77 => 0x346E49FF#32
  | 78 => 0xB466E193#32
  | 79 => 0x345FE0DA#32
  | 80 => 0xB45940A1#32
  | 81 => 0x3452FA51#32
  | 82 => 0xB44D07E6#32
  | 83 => 0x344763DA#32
  | 84 => 0xB4420919#32
  | 85 => 0x343CF2FA#32
  | 86 => 0xB4381D32#32
  | 87 => 0x343383CC#32
  | 88 => 0xB42F2322#32
  | 89 => 0x342AF7D2#32
  | 90 => 0xB426FEBD#32
  | 91 => 0x342334FF#32
  | 92 => 0xB41F97EA#32
  | 93 => 0x341C2500#32
  | 94 => 0xB418D9F0#32
  | 95 => 0x3415B495#32
  | 96 => 0xB412B2ED#32
  | 97 => 0x340FD31A#32
  | 98 => 0xB40D1360#32
  | 99 => 0x340A721F#32
  | 100 => 0xB407EDD1#32
  | 101 => 0x3405850C#32
  | 102 => 0xB403367C#32
  | 103 => 0x340100E3#32
  | 104 => 0xB3FDC62E#32
  | 105 => 0x33F9B800#32
  | 106 => 0xB3F5D532#32
  | 107 => 0x33F21BD6#32
  | 108 => 0xB3EE8A1F#32
  | 109 => 0x33EB1E5A#32
  | 110 => 0xB3E7D6EF#32
  | 111 => 0x33E4B25D#32
  | 112 => 0xB3E1AF3D#32
  | 113 => 0x33DECC38#32
  | 114 => 0xB3DC0810#32
  | 115 => 0x33D96196#32
  | 116 => 0xB3D6D7AE#32
  | 117 => 0x33D4694B#32
  | 118 => 0xB3D21572#32
  | 119 => 0x33CFDB34#32
  | 120 => 0xB3CDB9B1#32
  | 121 => 0x33CBB015#32
  | 122 => 0xB3C9BD97#32
  | 123 => 0x33C7E17D#32
  | 124 => 0xB3C61B15#32
  | 125 => 0x33C469B8#32
  | 126 => 0xB3C2CCC7#32
  | 127 => 0x33C143B0#32
  | _ => 0#32

noncomputable abbrev lit0t0_306 (i : Nat) : BitVec 32 := match i % 128 with
  | 0 => 0x33C143B0#32
  | 1 => 0xB3BFCDE6#32
  | 2 => 0x33BE6AE7#32
  | 3 => 0xB3BD1A36#32
  | 4 => 0x33BBDB61#32
  | 5 => 0xB3BAADFB#32
  | 6 => 0x33B9919E#32
  | 7 => 0xB3B885EC#32
  | 8 => 0x33B78A8A#32
  | 9 => 0xB3B69F28#32
  | 10 => 0x33B5C377#32
  | 11 => 0xB3B4F732#32
  | 12 => 0x33B43A15#32
  | 13 => 0xB3B38BE5#32
  | 14 => 0x33B2EC6A#32
  | 15 => 0xB3B25B72#32
  | 16 => 0x33B1D8CF#32
  | 17 => 0xB3B16459#32
  | 18 => 0x33B0FDEA#32
  | 19 => 0xB3B0A563#32
  | 20 => 0x33B05AA9#32
  | 21 => 0xB3B01DA5#32
  | 22 => 0x33AFEE43#32
  | 23 => 0xB3AFCC75#32
  | 24 => 0x33AFB831#32
  | 25 => 0xB3AFB170#32
  | 26 => 0x33AFB831#32
  | 27 => 0xB3AFCC75#32
  | 28 => 0x33AFEE43#32
  | 29 => 0xB3B01DA5#32
  | 30 => 0x33B05AA9#32
  | 31 => 0xB3B0A563#32
  | 32 => 0x33B0FDEA#32
  | 33 => 0xB3B16459#32
  | 34 => 0x33B1D8CF#32
  | 35 => 0xB3B25B72#32
  | 36 => 0x33B2EC6A#32
  | 37 => 0xB3B38BE5#32
  | 38 => 0x33B43A15#32
  | 39 => 0xB3B4F732#32
  | 40 => 0x33B5C377#32
  | 41 => 0xB3B69F28#32
  | 42 => 0x33B78A8A#32
  | 43 => 0xB3B885EC#32
  | 44 => 0x33B9919E#32
  | 45 => 0xB3BAADFB#32
  | 46 => 0x33BBDB61#32
  | 47 => 0xB3BD1A36#32
  | 48 => 0x33BE6AE7#32
  | 49 => 0xB3BFCDE6#32
  | 50 => 0x33C143B0#32
  | 51 => 0xB3C2CCC7#32
  | 52 => 0x33C469B8#32
  | 53 => 0xB3C61B15#32
  | 54 => 0x33C7E17D#32
  | 55 => 0xB3C9BD97#32
  | 56 => 0x33CBB015#32
  | 57 => 0xB3CDB9B1#32
  | 58 => 0x33CFDB34#32
  | 59 => 0xB3D21572#32
  | 60 => 0x33D4694B#32
  | 61 => 0xB3D6D7AE#32
  | 62 => 0x33D96196#32
  | 63 => 0xB3DC0810#32
  | 64 => 0x33DECC38#32
  | 65 => 0xB3E1AF3D#32
  | 66 => 0x33E4B25D#32
  | 67 => 0xB3E7D6EF#32
  | 68 => 0x33EB1E5A#32
  | 69 => 0xB3EE8A1F#32
  | 70 => 0x33F21BD6#32
  | 71 => 0xB3F5D532#32
  | 72 => 0x33F9B800#32
  | 73 => 0xB3FDC62E#32
  | 74 => 0x340100E3#32
  | 75 => 0xB403367C#32
  | 76 => 0x3405850C#32
  | 77 => 0xB407EDD1#32
  | 78 => 0x340A721F#32
  | 79 => 0xB40D1360#32
  | 80 => 0x340FD31A#32
  | 81 => 0xB412B2ED#32
  | 82 => 0x3415B495#32
  | 83 => 0xB418D9F0#32
  | 84 => 0x341C2500#32
  | 85 => 0xB41F97EA#32
  | 86 => 0x342334FF#32
  | 87 => 0xB426FEBD#32
  | 88 => 0x342AF7D2#32
  | 89 => 0xB42F2322#32
  | 90 => 0x343383CC#32
  | 91 => 0xB4381D32#32
  | 92 => 0x343CF2FA#32
  | 93 => 0xB4420919#32
  | 94 => 0x344763DA#32
  | 95 => 0xB44D07E6#32
  | 96 => 0x3452FA51#32
  | 97 => 0xB45940A1#32
  | 98 => 0x345FE0DA#32
  | 99 => 0xB466E193#32
  | 100 => 0x346E49FF#32
  | 101 => 0xB4762200#32
  | 102 => 0x347E723F#32
  | 103 => 0xB483A221#32
  | 104 => 0x34885143#32
  | 105 => 0xB48D4C4D#32
  | 106 => 0x349299A5#32
  | 107 => 0xB4984061#32
  | 108 => 0x349E485F#32
  | 109 => 0xB4A4BA5F#32
  | 110 => 0x34ABA023#32
  | 111 => 0xB4B30492#32
  | 112 => 0x34BAF3E5#32
  | 113 => 0xB4C37BD6#32
  | 114 => 0x34CCABDA#32
  | 115 => 0xB4D69568#32
  | 116 => 0x34E14C49#32
  | 117 => 0xB4ECE6F7#32
  | 118 => 0x34F97F13#32
  | 119 => 0xB50398F7#32
  | 120 => 0x350B1097#32
  | 121 => 0xB51339CD#32
  | 122 => 0x351C2B08#32
  | 123 => 0xB525FE56#32
  | 124 => 0x3530D21D#32
  | 125 => 0xB53CCA00#32
  | 126 => 0x354A0FF9#32
  | 127 => 0xB558D5BB#32
  | _ => 0#32

noncomputable abbrev lit0t0_307 (i : Nat) : BitVec 32 := match i % 128 with
  | 0 => 0x35695670#32
  | 1 => 0xB57BD8F1#32
  | 2 => 0x3588594C#32
  | 3 => 0xB5942572#32
  | 4 => 0x35A19018#32
  | 5 => 0xB5B0E6EF#32
  | 6 => 0x35C28A3B#32
  | 7 => 0xB5D6F23A#32
  | 8 => 0x35EEB658#32
  | 9 => 0xB6054B76#32
  | 10 => 0x3615C529#32
  | 11 => 0xB6296767#32
  | 12 => 0x3641014B#32
  | 13 => 0xB65DA20C#32
  | 14 => 0x368056F2#32
  | 15 => 0xB695FBC4#32
  | 16 => 0x36B0ED61#32
  | 17 => 0xB6D29E9B#32
  | 18 => 0x36FFBDB2#32
  | 19 => 0xB692EE32#32
  | 20 => 0x391EBB1A#32
  | 21 => 0x3B12D0DF#32
  | 22 => 0x3CA0086D#32
  | 23 => 0x3DBAD58B#32
  | 24 => 0x3E6BB748#32
  | 25 => 0x3EA069FE#32
  | 26 => 0x3E6BB748#32
  | 27 => 0x3DBAD58B#32
  | 28 => 0x3CA0086D#32
  | 29 => 0x3B12D0DF#32
  | 30 => 0x391EBB1A#32
  | 31 => 0xB692EE32#32
  | 32 => 0x36FFBDB2#32
  | 33 => 0xB6D29E9B#32
  | 34 => 0x36B0ED61#32
  | 35 => 0xB695FBC4#32
  | 36 => 0x368056F2#32
  | 37 => 0xB65DA20C#32
  | 38 => 0x3641014B#32
  | 39 => 0xB6296767#32
  | 40 => 0x3615C529#32
  | 41 => 0xB6054B76#32
  | 42 => 0x35EEB658#32
  | 43 => 0xB5D6F23A#32
  | 44 => 0x35C28A3B#32
  | 45 => 0xB5B0E6EF#32
  | 46 => 0x35A19018#32
  | 47 => 0xB5942572#32
  | 48 => 0x3588594C#32
  | 49 => 0xB57BD8F1#32
  | 50 => 0x35695670#32
  | 51 => 0xB558D5BB#32
  | 52 => 0x354A0FF9#32
  | 53 => 0xB53CCA00#32
  | 54 => 0x3530D21D#32
  | 55 => 0xB525FE56#32
  | 56 => 0x351C2B08#32
  | 57 => 0xB51339CD#32
  | 58 => 0x350B1097#32
  | 59 => 0xB50398F7#32
  | 60 => 0x34F97F13#32
  | 61 => 0xB4ECE6F7#32
  | 62 => 0x34E14C49#32
  | 63 => 0xB4D69568#32
  | 64 => 0x34CCABDA#32
  | 65 => 0xB4C37BD6#32
  | 66 => 0x34BAF3E5#32
  | 67 => 0xB4B30492#32
  | 68 => 0x34ABA023#32
  | 69 => 0xB4A4BA5F#32
  | 70 => 0x349E485F#32
  | 71 => 0xB4984061#32
  | 72 => 0x349299A5#32
  | 73 => 0xB48D4C4D#32
  | 74 => 0x34885143#32
  | 75 => 0xB483A221#32
  | 76 => 0x347E723F#32
  | 77 => 0xB4762200#32
  | 78 => 0x346E49FF#32
  | 79 => 0xB466E193#32
  | 80 => 0x345FE0DA#32
  | 81 => 0xB45940A1#32
  | 82 => 0x3452FA51#32
  | 83 => 0xB44D07E6#32
  | 84 => 0x344763DA#32
  | 85 => 0xB4420919#32
  | 86 => 0x343CF2FA#32
  | 87 => 0xB4381D32#32
  | 88 => 0x343383CC#32
  | 89 => 0xB42F2322#32
  | 90 => 0x342AF7D2#32
  | 91 => 0xB426FEBD#32
  | 92 => 0x342334FF#32
  | 93 => 0xB41F97EA#32
  | 94 => 0x341C2500#32
  | 95 => 0xB418D9F0#32
  | 96 => 0x3415B495#32
  | 97 => 0xB412B2ED#32
  | 98 => 0x340FD31A#32
  | 99 => 0xB40D1360#32
  | 100 => 0x340A721F#32
  | 101 => 0xB407EDD1#32
  | 102 => 0x3405850C#32
  | 103 => 0xB403367C#32
  | 104 => 0x340100E3#32
  | 105 => 0xB3FDC62E#32
  | 106 => 0x33F9B800#32
  | 107 => 0xB3F5D532#32
  | 108 => 0x33F21BD6#32
  | 109 => 0xB3EE8A1F#32
  | 110 => 0x33EB1E5A#32
  | 111 => 0xB3E7D6EF#32
  | 112 => 0x33E4B25D#32
  | 113 => 0xB3E1AF3D#32
  | 114 => 0x33DECC38#32
  | 115 => 0xB3DC0810#32
  | 116 => 0x33D96196#32
  | 117 => 0xB3D6D7AE#32
  | 118 => 0x33D4694B#32
  | 119 => 0xB3D21572#32
  | 120 => 0x33CFDB34#32
  | 121 => 0xB3CDB9B1#32
  | 122 => 0x33CBB015#32
  | 123 => 0xB3C9BD97#32
  | 124 => 0x33C7E17D#32
  | 125 => 0xB3C61B15#32
  | 126 => 0x33C469B8#32
  | 127 => 0xB3C2CCC7#32
  | _ => 0#32

noncomputable abbrev lit0t0_308 (i : Nat) : BitVec 32 := match i % 128 with
  | 0 => 0xB3C2CCC7#32
  | 1 => 0x33C143B0#32
  | 2 => 0xB3BFCDE6#32
  | 3 => 0x33BE6AE7#32
  | 4 => 0xB3BD1A36#32
  | 5 => 0x33BBDB61#32
  | 6 => 0xB3BAADFB#32
  | 7 => 0x33B9919E#32
  | 8 => 0xB3B885EC#32
  | 9 => 0x33B78A8A#32
  | 10 => 0xB3B69F28#32
  | 11 => 0x33B5C377#32
  | 12 => 0xB3B4F732#32
  | 13 => 0x33B43A15#32
  | 14 => 0xB3B38BE5#32
  | 15 => 0x33B2EC6A#32
  | 16 => 0xB3B25B72#32
  | 17 => 0x33B1D8CF#32
  | 18 => 0xB3B16459#32
  | 19 => 0x33B0FDEA#32
  | 20 => 0xB3B0A563#32
  | 21 => 0x33B05AA9#32
  | 22 => 0xB3B01DA5#32
  | 23 => 0x33AFEE43#32
  | 24 => 0xB3AFCC75#32
  | 25 => 0x33AFB831#32
  | 26 => 0xB3AFB170#32
  | 27 => 0x33AFB831#32
  | 28 => 0xB3AFCC75#32
  | 29 => 0x33AFEE43#32
  | 30 => 0xB3B01DA5#32
  | 31 => 0x33B05AA9#32
  | 32 => 0xB3B0A563#32
  | 33 => 0x33B0FDEA#32
  | 34 => 0xB3B16459#32
  | 35 => 0x33B1D8CF#32
  | 36 => 0xB3B25B72#32
  | 37 => 0x33B2EC6A#32
  | 38 => 0xB3B38BE5#32
  | 39 => 0x33B43A15#32
  | 40 => 0xB3B4F732#32
  | 41 => 0x33B5C377#32
  | 42 => 0xB3B69F28#32
  | 43 => 0x33B78A8A#32
  | 44 => 0xB3B885EC#32
  | 45 => 0x33B9919E#32
  | 46 => 0xB3BAADFB#32
  | 47 => 0x33BBDB61#32
  | 48 => 0xB3BD1A36#32
  | 49 => 0x33BE6AE7#32
  | 50 => 0xB3BFCDE6#32
  | 51 => 0x33C143B0#32
  | 52 => 0xB3C2CCC7#32
  | 53 => 0x33C469B8#32
  | 54 => 0xB3C61B15#32
  | 55 => 0x33C7E17D#32
  | 56 => 0xB3C9BD97#32
  | 57 => 0x33CBB015#32
  | 58 => 0xB3CDB9B1#32
  | 59 => 0x33CFDB34#32
  | 60 => 0xB3D21572#32
  | 61 => 0x33D4694B#32
  | 62 => 0xB3D6D7AE#32
  | 63 => 0x33D96196#32
  | 64 => 0xB3DC0810#32
  | 65 => 0x33DECC38#32
  | 66 => 0xB3E1AF3D#32
  | 67 => 0x33E4B25D#32
  | 68 => 0xB3E7D6EF#32
  | 69 => 0x33EB1E5A#32
  | 70 => 0xB3EE8A1F#32
  | 71 => 0x33F21BD6#32
  | 72 => 0xB3F5D532#32
  | 73 => 0x33F9B800#32
  | 74 => 0xB3FDC62E#32
  | 75 => 0x340100E3#32
  | 76 => 0xB403367C#32
  | 77 => 0x3405850C#32
  | 78 => 0xB407EDD1#32
  | 79 => 0x340A721F#32
  | 80 => 0xB40D1360#32
  | 81 => 0x340FD31A#32
  | 82 => 0xB412B2ED#32
  | 83 => 0x3415B495#32
  | 84 => 0xB418D9F0#32
  | 85 => 0x341C2500#32
  | 86 => 0xB41F97EA#32
  | 87 => 0x342334FF#32
  | 88 => 0xB426FEBD#32
  | 89 => 0x342AF7D2#32
  | 90 => 0xB42F2322#32
  | 91 => 0x343383CC#32
  | 92 => 0xB4381D32#32
  | 93 => 0x343CF2FA#32
  | 94 => 0xB4420919#32
  | 95 => 0x344763DA#32
  | 96 => 0xB44D07E6#32
  | 97 => 0x3452FA51#32
  | 98 => 0xB45940A1#32
  | 99 => 0x345FE0DA#32
  | 100 => 0xB466E193#32
  | 101 => 0x346E49FF#32
  | 102 => 0xB4762200#32
  | 103 => 0x347E723F#32
  | 104 => 0xB483A221#32
  | 105 => 0x34885143#32
  | 106 => 0xB48D4C4D#32
  | 107 => 0x349299A5#32
  | 108 => 0xB4984061#32
  | 109 => 0x349E485F#32
  | 110 => 0xB4A4BA5F#32
  | 111 => 0x34ABA023#32
  | 112 => 0xB4B30492#32
  | 113 => 0x34BAF3E5#32
  | 114 => 0xB4C37BD6#32
  | 115 => 0x34CCABDA#32
  | 116 => 0xB4D69568#32
  | 117 => 0x34E14C49#32
  | 118 => 0xB4ECE6F7#32
  | 119 => 0x34F97F13#32
  | 120 => 0xB50398F7#32
  | 121 => 0x350B1097#32
  | 122 => 0xB51339CD#32
  | 123 => 0x351C2B08#32
  | 124 => 0xB525FE56#32
  | 125 => 0x3530D21D#32
  | 126 => 0xB53CCA00#32
  | 127 => 0x354A0FF9#32
  | _ => 0#32

noncomputable abbrev lit0t0_309 (i : Nat) : BitVec 32 := match i % 128 with
  | 0 => 0xB558D5BB#32
  | 1 => 0x35695670#32
  | 2 => 0xB57BD8F1#32
  | 3 => 0x3588594C#32
  | 4 => 0xB5942572#32
  | 5 => 0x35A19018#32
  | 6 => 0xB5B0E6EF#32
  | 7 => 0x35C28A3B#32
  | 8 => 0xB5D6F23A#32
  | 9 => 0x35EEB658#32
  | 10 => 0xB6054B76#32
  | 11 => 0x3615C529#32
  | 12 => 0xB6296767#32
  | 13 => 0x3641014B#32
  | 14 => 0xB65DA20C#32
  | 15 => 0x368056F2#32
  | 16 => 0xB695FBC4#32
  | 17 => 0x36B0ED61#32
  | 18 => 0xB6D29E9B#32
  | 19 => 0x36FFBDB2#32
  | 20 => 0xB692EE32#32
  | 21 => 0x391EBB1A#32
  | 22 => 0x3B12D0DF#32
  | 23 => 0x3CA0086D#32
  | 24 => 0x3DBAD58B#32
  | 25 => 0x3E6BB748#32
  | 26 => 0x3EA069FE#32
  | 27 => 0x3E6BB748#32
  | 28 => 0x3DBAD58B#32
  | 29 => 0x3CA0086D#32
  | 30 => 0x3B12D0DF#32
  | 31 => 0x391EBB1A#32
  | 32 => 0xB692EE32#32
  | 33 => 0x36FFBDB2#32
  | 34 => 0xB6D29E9B#32
  | 35 => 0x36B0ED61#32
  | 36 => 0xB695FBC4#32
  | 37 => 0x368056F2#32
  | 38 => 0xB65DA20C#32
  | 39 => 0x3641014B#32
  | 40 => 0xB6296767#32
  | 41 => 0x3615C529#32
  | 42 => 0xB6054B76#32
  | 43 => 0x35EEB658#32
  | 44 => 0xB5D6F23A#32
  | 45 => 0x35C28A3B#32
  | 46 => 0xB5B0E6EF#32
  | 47 => 0x35A19018#32
  | 48 => 0xB5942572#32
  | 49 => 0x3588594C#32
  | 50 => 0xB57BD8F1#32
  | 51 => 0x35695670#32
  | 52 => 0xB558D5BB#32
  | 53 => 0x354A0FF9#32
  | 54 => 0xB53CCA00#32
  | 55 => 0x3530D21D#32
  | 56 => 0xB525FE56#32
  | 57 => 0x351C2B08#32
  | 58 => 0xB51339CD#32
  | 59 => 0x350B1097#32
  | 60 => 0xB50398F7#32
  | 61 => 0x34F97F13#32
  | 62 => 0xB4ECE6F7#32
  | 63 => 0x34E14C49#32
  | 64 => 0xB4D69568#32
  | 65 => 0x34CCABDA#32
  | 66 => 0xB4C37BD6#32
  | 67 => 0x34BAF3E5#32
  | 68 => 0xB4B30492#32
  | 69 => 0x34ABA023#32
  | 70 => 0xB4A4BA5F#32
  | 71 => 0x349E485F#32
  | 72 => 0xB4984061#32
  | 73 => 0x349299A5#32
  | 74 => 0xB48D4C4D#32
  | 75 => 0x34885143#32
  | 76 => 0xB483A221#32
  | 77 => 0x347E723F#32
  | 78 => 0xB4762200#32
  | 79 => 0x346E49FF#32
  | 80 => 0xB466E193#32
  | 81 => 0x345FE0DA#32
  | 82 => 0xB45940A1#32
  | 83 => 0x3452FA51#32
  | 84 => 0xB44D07E6#32
  | 85 => 0x344763DA#32
  | 86 => 0xB4420919#32
  | 87 => 0x343CF2FA#32
  | 88 => 0xB4381D32#32
  | 89 => 0x343383CC#32
  | 90 => 0xB42F2322#32
  | 91 => 0x342AF7D2#32
  | 92 => 0xB426FEBD#32
  | 93 => 0x342334FF#32
  | 94 => 0xB41F97EA#32
  | 95 => 0x341C2500#32
  | 96 => 0xB418D9F0#32
  | 97 => 0x3415B495#32
  | 98 => 0xB412B2ED#32
  | 99 => 0x340FD31A#32
  | 100 => 0xB40D1360#32
  | 101 => 0x340A721F#32
  | 102 => 0xB407EDD1#32
  | 103 => 0x3405850C#32
  | 104 => 0xB403367C#32
  | 105 => 0x340100E3#32
  | 106 => 0xB3FDC62E#32
  | 107 => 0x33F9B800#32
  | 108 => 0xB3F5D532#32
  | 109 => 0x33F21BD6#32
  | 110 => 0xB3EE8A1F#32
  | 111 => 0x33EB1E5A#32
  | 112 => 0xB3E7D6EF#32
  | 113 => 0x33E4B25D#32
  | 114 => 0xB3E1AF3D#32
  | 115 => 0x33DECC38#32
  | 116 => 0xB3DC0810#32
  | 117 => 0x33D96196#32
  | 118 => 0xB3D6D7AE#32
  | 119 => 0x33D4694B#32
  | 120 => 0xB3D21572#32
  | 121 => 0x33CFDB34#32
  | 122 => 0xB3CDB9B1#32
  | 123 => 0x33CBB015#32
  | 124 => 0xB3C9BD97#32
  | 125 => 0x33C7E17D#32
  | 126 => 0xB3C61B15#32
  | 127 => 0x33C469B8#32
  | _ => 0#32

noncomputable abbrev lit0t0_310 (i : Nat) : BitVec 32 := match i % 128 with
  | 0 => 0x33C469B8#32
  | 1 => 0xB3C2CCC7#32
  | 2 => 0x33C143B0#32
  | 3 => 0xB3BFCDE6#32
  | 4 => 0x33BE6AE7#32
  | 5 => 0xB3BD1A36#32
  | 6 => 0x33BBDB61#32
  | 7 => 0xB3BAADFB#32
  | 8 => 0x33B9919E#32
  | 9 => 0xB3B885EC#32
  | 10 => 0x33B78A8A#32
  | 11 => 0xB3B69F28#32
  | 12 => 0x33B5C377#32
  | 13 => 0xB3B4F732#32
  | 14 => 0x33B43A15#32
  | 15 => 0xB3B38BE5#32
  | 16 => 0x33B2EC6A#32
  | 17 => 0xB3B25B72#32
  | 18 => 0x33B1D8CF#32
  | 19 => 0xB3B16459#32
  | 20 => 0x33B0FDEA#32
  | 21 => 0xB3B0A563#32
  | 22 => 0x33B05AA9#32
  | 23 => 0xB3B01DA5#32
  | 24 => 0x33AFEE43#32
  | 25 => 0xB3AFCC75#32
  | 26 => 0x33AFB831#32
  | 27 => 0xB3AFB170#32
  | 28 => 0x33AFB831#32
  | 29 => 0xB3AFCC75#32
  | 30 => 0x33AFEE43#32
  | 31 => 0xB3B01DA5#32
  | 32 => 0x33B05AA9#32
  | 33 => 0xB3B0A563#32
  | 34 => 0x33B0FDEA#32
  | 35 => 0xB3B16459#32
  | 36 => 0x33B1D8CF#32
  | 37 => 0xB3B25B72#32
  | 38 => 0x33B2EC6A#32
  | 39 => 0xB3B38BE5#32
  | 40 => 0x33B43A15#32
  | 41 => 0xB3B4F732#32
  | 42 => 0x33B5C377#32
  | 43 => 0xB3B69F28#32
  | 44 => 0x33B78A8A#32
  | 45 => 0xB3B885EC#32
  | 46 => 0x33B9919E#32
  | 47 => 0xB3BAADFB#32
  | 48 => 0x33BBDB61#32
  | 49 => 0xB3BD1A36#32
  | 50 => 0x33BE6AE7#32
  | 51 => 0xB3BFCDE6#32
  | 52 => 0x33C143B0#32
  | 53 => 0xB3C2CCC7#32
  | 54 => 0x33C469B8#32
  | 55 => 0xB3C61B15#32
  | 56 => 0x33C7E17D#32
  | 57 => 0xB3C9BD97#32
  | 58 => 0x33CBB015#32
  | 59 => 0xB3CDB9B1#32
  | 60 => 0x33CFDB34#32
  | 61 => 0xB3D21572#32
  | 62 => 0x33D4694B#32
  | 63 => 0xB3D6D7AE#32
  | 64 => 0x33D96196#32
  | 65 => 0xB3DC0810#32
  | 66 => 0x33DECC38#32
  | 67 => 0xB3E1AF3D#32
  | 68 => 0x33E4B25D#32
  | 69 => 0xB3E7D6EF#32
  | 70 => 0x33EB1E5A#32
  | 71 => 0xB3EE8A1F#32
  | 72 => 0x33F21BD6#32
  | 73 => 0xB3F5D532#32
  | 74 => 0x33F9B800#32
  | 75 => 0xB3FDC62E#32
  | 76 => 0x340100E3#32
  | 77 => 0xB403367C#32
  | 78 => 0x3405850C#32
  | 79 => 0xB407EDD1#32
  | 80 => 0x340A721F#32
  | 81 => 0xB40D1360#32
  | 82 => 0x340FD31A#32
  | 83 => 0xB412B2ED#32
  | 84 => 0x3415B495#32
  | 85 => 0xB418D9F0#32
  | 86 => 0x341C2500#32
  | 87 => 0xB41F97EA#32
  | 88 => 0x342334FF#32
  | 89 => 0xB426FEBD#32
  | 90 => 0x342AF7D2#32
  | 91 => 0xB42F2322#32
  | 92 => 0x343383CC#32
  | 93 => 0xB4381D32#32
  | 94 => 0x343CF2FA#32
  | 95 => 0xB4420919#32
  | 96 => 0x344763DA#32
  | 97 => 0xB44D07E6#32
  | 98 => 0x3452FA51#32
  | 99 => 0xB45940A1#32
  | 100 => 0x345FE0DA#32
  | 101 => 0xB466E193#32
  | 102 => 0x346E49FF#32
  | 103 => 0xB4762200#32
  | 104 => 0x347E723F#32
  | 105 => 0xB483A221#32
  | 106 => 0x34885143#32
  | 107 => 0xB48D4C4D#32
  | 108 => 0x349299A5#32
  | 109 => 0xB4984061#32
  | 110 => 0x349E485F#32
  | 111 => 0xB4A4BA5F#32
  | 112 => 0x34ABA023#32
  | 113 => 0xB4B30492#32
  | 114 => 0x34BAF3E5#32
  | 115 => 0xB4C37BD6#32
  | 116 => 0x34CCABDA#32
  | 117 => 0xB4D69568#32
  | 118 => 0x34E14C49#32
  | 119 => 0xB4ECE6F7#32
  | 120 => 0x34F97F13#32
  | 121 => 0xB50398F7#32
  | 122 => 0x350B1097#32
  | 123 => 0xB51339CD#32
  | 124 => 0x351C2B08#32
  | 125 => 0xB525FE56#32
  | 126 => 0x3530D21D#32
  | 127 => 0xB53CCA00#32
  | _ => 0#32

noncomputable abbrev lit0t0_311 (i : Nat) : BitVec 32 := match i % 128 with
  | 0 => 0x354A0FF9#32
  | 1 => 0xB558D5BB#32
  | 2 => 0x35695670#32
  | 3 => 0xB57BD8F1#32
  | 4 => 0x3588594C#32
  | 5 => 0xB5942572#32
  | 6 => 0x35A19018#32
  | 7 => 0xB5B0E6EF#32
  | 8 => 0x35C28A3B#32
  | 9 => 0xB5D6F23A#32
  | 10 => 0x35EEB658#32
  | 11 => 0xB6054B76#32
  | 12 => 0x3615C529#32
  | 13 => 0xB6296767#32
  | 14 => 0x3641014B#32
  | 15 => 0xB65DA20C#32
  | 16 => 0x368056F2#32
  | 17 => 0xB695FBC4#32
  | 18 => 0x36B0ED61#32
  | 19 => 0xB6D29E9B#32
  | 20 => 0x36FFBDB2#32
  | 21 => 0xB692EE32#32
  | 22 => 0x391EBB1A#32
  | 23 => 0x3B12D0DF#32
  | 24 => 0x3CA0086D#32
  | 25 => 0x3DBAD58B#32
  | 26 => 0x3E6BB748#32
  | 27 => 0x3EA069FE#32
  | 28 => 0x3E6BB748#32
  | 29 => 0x3DBAD58B#32
  | 30 => 0x3CA0086D#32
  | 31 => 0x3B12D0DF#32
  | 32 => 0x391EBB1A#32
  | 33 => 0xB692EE32#32
  | 34 => 0x36FFBDB2#32
  | 35 => 0xB6D29E9B#32
  | 36 => 0x36B0ED61#32
  | 37 => 0xB695FBC4#32
  | 38 => 0x368056F2#32
  | 39 => 0xB65DA20C#32
  | 40 => 0x3641014B#32
  | 41 => 0xB6296767#32
  | 42 => 0x3615C529#32
  | 43 => 0xB6054B76#32
  | 44 => 0x35EEB658#32
  | 45 => 0xB5D6F23A#32
  | 46 => 0x35C28A3B#32
  | 47 => 0xB5B0E6EF#32
  | 48 => 0x35A19018#32
  | 49 => 0xB5942572#32
  | 50 => 0x3588594C#32
  | 51 => 0xB57BD8F1#32
  | 52 => 0x35695670#32
  | 53 => 0xB558D5BB#32
  | 54 => 0x354A0FF9#32
  | 55 => 0xB53CCA00#32
  | 56 => 0x3530D21D#32
  | 57 => 0xB525FE56#32
  | 58 => 0x351C2B08#32
  | 59 => 0xB51339CD#32
  | 60 => 0x350B1097#32
  | 61 => 0xB50398F7#32
  | 62 => 0x34F97F13#32
  | 63 => 0xB4ECE6F7#32
  | 64 => 0x34E14C49#32
  | 65 => 0xB4D69568#32
  | 66 => 0x34CCABDA#32
  | 67 => 0xB4C37BD6#32
  | 68 => 0x34BAF3E5#32
  | 69 => 0xB4B30492#32
  | 70 => 0x34ABA023#32
  | 71 => 0xB4A4BA5F#32
  | 72 => 0x349E485F#32
  | 73 => 0xB4984061#32
  | 74 => 0x349299A5#32
  | 75 => 0xB48D4C4D#32
  | 76 => 0x34885143#32
  | 77 => 0xB483A221#32
  | 78 => 0x347E723F#32
  | 79 => 0xB4762200#32
  | 80 => 0x346E49FF#32
  | 81 => 0xB466E193#32
  | 82 => 0x345FE0DA#32
  | 83 => 0xB45940A1#32
  | 84 => 0x3452FA51#32
  | 85 => 0xB44D07E6#32
  | 86 => 0x344763DA#32
  | 87 => 0xB4420919#32
  | 88 => 0x343CF2FA#32
  | 89 => 0xB4381D32#32
  | 90 => 0x343383CC#32
  | 91 => 0xB42F2322#32
  | 92 => 0x342AF7D2#32
  | 93 => 0xB426FEBD#32
  | 94 => 0x342334FF#32
  | 95 => 0xB41F97EA#32
  | 96 => 0x341C2500#32
  | 97 => 0xB418D9F0#32
  | 98 => 0x3415B495#32
  | 99 => 0xB412B2ED#32
  | 100 => 0x340FD31A#32
  | 101 => 0xB40D1360#32
  | 102 => 0x340A721F#32
  | 103 => 0xB407EDD1#32
  | 104 => 0x3405850C#32
  | 105 => 0xB403367C#32
  | 106 => 0x340100E3#32
  | 107 => 0xB3FDC62E#32
  | 108 => 0x33F9B800#32
  | 109 => 0xB3F5D532#32
  | 110 => 0x33F21BD6#32
  | 111 => 0xB3EE8A1F#32
  | 112 => 0x33EB1E5A#32
  | 113 => 0xB3E7D6EF#32
  | 114 => 0x33E4B25D#32
  | 115 => 0xB3E1AF3D#32
  | 116 => 0x33DECC38#32
  | 117 => 0xB3DC0810#32
  | 118 => 0x33D96196#32
  | 119 => 0xB3D6D7AE#32
  | 120 => 0x33D4694B#32
  | 121 => 0xB3D21572#32
  | 122 => 0x33CFDB34#32
  | 123 => 0xB3CDB9B1#32
  | 124 => 0x33CBB015#32
  | 125 => 0xB3C9BD97#32
  | 126 => 0x33C7E17D#32
  | 127 => 0xB3C61B15#32
  | _ => 0#32

noncomputable abbrev lit0t0_312 (i : Nat) : BitVec 32 := match i % 128 with
  | 0 => 0xB3C61B15#32
  | 1 => 0x33C469B8#32
  | 2 => 0xB3C2CCC7#32
  | 3 => 0x33C143B0#32
  | 4 => 0xB3BFCDE6#32
  | 5 => 0x33BE6AE7#32
  | 6 => 0xB3BD1A36#32
  | 7 => 0x33BBDB61#32
  | 8 => 0xB3BAADFB#32
  | 9 => 0x33B9919E#32
  | 10 => 0xB3B885EC#32
  | 11 => 0x33B78A8A#32
  | 12 => 0xB3B69F28#32
  | 13 => 0x33B5C377#32
  | 14 => 0xB3B4F732#32
  | 15 => 0x33B43A15#32
  | 16 => 0xB3B38BE5#32
  | 17 => 0x33B2EC6A#32
  | 18 => 0xB3B25B72#32
  | 19 => 0x33B1D8CF#32
  | 20 => 0xB3B16459#32
  | 21 => 0x33B0FDEA#32
  | 22 => 0xB3B0A563#32
  | 23 => 0x33B05AA9#32
  | 24 => 0xB3B01DA5#32
  | 25 => 0x33AFEE43#32
  | 26 => 0xB3AFCC75#32
  | 27 => 0x33AFB831#32
  | 28 => 0xB3AFB170#32
  | 29 => 0x33AFB831#32
  | 30 => 0xB3AFCC75#32
  | 31 => 0x33AFEE43#32
  | 32 => 0xB3B01DA5#32
  | 33 => 0x33B05AA9#32
  | 34 => 0xB3B0A563#32
  | 35 => 0x33B0FDEA#32
  | 36 => 0xB3B16459#32
  | 37 => 0x33B1D8CF#32
  | 38 => 0xB3B25B72#32
  | 39 => 0x33B2EC6A#32
  | 40 => 0xB3B38BE5#32
  | 41 => 0x33B43A15#32
  | 42 => 0xB3B4F732#32
  | 43 => 0x33B5C377#32
  | 44 => 0xB3B69F28#32
  | 45 => 0x33B78A8A#32
  | 46 => 0xB3B885EC#32
  | 47 => 0x33B9919E#32
  | 48 => 0xB3BAADFB#32
  | 49 => 0x33BBDB61#32
  | 50 => 0xB3BD1A36#32
  | 51 => 0x33BE6AE7#32
  | 52 => 0xB3BFCDE6#32
  | 53 => 0x33C143B0#32
  | 54 => 0xB3C2CCC7#32
  | 55 => 0x33C469B8#32
  | 56 => 0xB3C61B15#32
  | 57 => 0x33C7E17D#32
  | 58 => 0xB3C9BD97#32
  | 59 => 0x33CBB015#32
  | 60 => 0xB3CDB9B1#32
  | 61 => 0x33CFDB34#32
  | 62 => 0xB3D21572#32
  | 63 => 0x33D4694B#32
  | 64 => 0xB3D6D7AE#32
  | 65 => 0x33D96196#32
  | 66 => 0xB3DC0810#32
  | 67 => 0x33DECC38#32
  | 68 => 0xB3E1AF3D#32
  | 69 => 0x33E4B25D#32
  | 70 => 0xB3E7D6EF#32
  | 71 => 0x33EB1E5A#32
  | 72 => 0xB3EE8A1F#32
  | 73 => 0x33F21BD6#32
  | 74 => 0xB3F5D532#32
  | 75 => 0x33F9B800#32
  | 76 => 0xB3FDC62E#32
  | 77 => 0x340100E3#32
  | 78 => 0xB403367C#32
  | 79 => 0x3405850C#32
  | 80 => 0xB407EDD1#32
  | 81 => 0x340A721F#32
  | 82 => 0xB40D1360#32
  | 83 => 0x340FD31A#32
  | 84 => 0xB412B2ED#32
  | 85 => 0x3415B495#32
  | 86 => 0xB418D9F0#32
  | 87 => 0x341C2500#32
  | 88 => 0xB41F97EA#32
  | 89 => 0x342334FF#32
  | 90 => 0xB426FEBD#32
  | 91 => 0x342AF7D2#32
  | 92 => 0xB42F2322#32
  | 93 => 0x343383CC#32
  | 94 => 0xB4381D32#32
  | 95 => 0x343CF2FA#32
  | 96 => 0xB4420919#32
  | 97 => 0x344763DA#32
  | 98 => 0xB44D07E6#32
  | 99 => 0x3452FA51#32
  | 100 => 0xB45940A1#32
  | 101 => 0x345FE0DA#32
  | 102 => 0xB466E193#32
  | 103 => 0x346E49FF#32
  | 104 => 0xB4762200#32
  | 105 => 0x347E723F#32
  | 106 => 0xB483A221#32
  | 107 => 0x34885143#32
  | 108 => 0xB48D4C4D#32
  | 109 => 0x349299A5#32
  | 110 => 0xB4984061#32
  | 111 => 0x349E485F#32
  | 112 => 0xB4A4BA5F#32
  | 113 => 0x34ABA023#32
  | 114 => 0xB4B30492#32
  | 115 => 0x34BAF3E5#32
  | 116 => 0xB4C37BD6#32
  | 117 => 0x34CCABDA#32
  | 118 => 0xB4D69568#32
  | 119 => 0x34E14C49#32
  | 120 => 0xB4ECE6F7#32
  | 121 => 0x34F97F13#32
  | 122 => 0xB50398F7#32
  | 123 => 0x350B1097#32
  | 124 => 0xB51339CD#32
  | 125 => 0x351C2B08#32
  | 126 => 0xB525FE56#32
  | 127 => 0x3530D21D#32
  | _ => 0#32

noncomputable abbrev lit0t0_313 (i : Nat) : BitVec 32 := match i % 128 with
  | 0 => 0xB53CCA00#32
  | 1 => 0x354A0FF9#32
  | 2 => 0xB558D5BB#32
  | 3 => 0x35695670#32
  | 4 => 0xB57BD8F1#32
  | 5 => 0x3588594C#32
  | 6 => 0xB5942572#32
  | 7 => 0x35A19018#32
  | 8 => 0xB5B0E6EF#32
  | 9 => 0x35C28A3B#32
  | 10 => 0xB5D6F23A#32
  | 11 => 0x35EEB658#32
  | 12 => 0xB6054B76#32
  | 13 => 0x3615C529#32
  | 14 => 0xB6296767#32
  | 15 => 0x3641014B#32
  | 16 => 0xB65DA20C#32
  | 17 => 0x368056F2#32
  | 18 => 0xB695FBC4#32
  | 19 => 0x36B0ED61#32
  | 20 => 0xB6D29E9B#32
  | 21 => 0x36FFBDB2#32
  | 22 => 0xB692EE32#32
  | 23 => 0x391EBB1A#32
  | 24 => 0x3B12D0DF#32
  | 25 => 0x3CA0086D#32
  | 26 => 0x3DBAD58B#32
  | 27 => 0x3E6BB748#32
  | 28 => 0x3EA069FE#32
  | 29 => 0x3E6BB748#32
  | 30 => 0x3DBAD58B#32
  | 31 => 0x3CA0086D#32
  | 32 => 0x3B12D0DF#32
  | 33 => 0x391EBB1A#32
  | 34 => 0xB692EE32#32
  | 35 => 0x36FFBDB2#32
  | 36 => 0xB6D29E9B#32
  | 37 => 0x36B0ED61#32
  | 38 => 0xB695FBC4#32
  | 39 => 0x368056F2#32
  | 40 => 0xB65DA20C#32
  | 41 => 0x3641014B#32
  | 42 => 0xB6296767#32
  | 43 => 0x3615C529#32
  | 44 => 0xB6054B76#32
  | 45 => 0x35EEB658#32
  | 46 => 0xB5D6F23A#32
  | 47 => 0x35C28A3B#32
  | 48 => 0xB5B0E6EF#32
  | 49 => 0x35A19018#32
  | 50 => 0xB5942572#32
  | 51 => 0x3588594C#32
  | 52 => 0xB57BD8F1#32
  | 53 => 0x35695670#32
  | 54 => 0xB558D5BB#32
  | 55 => 0x354A0FF9#32
  | 56 => 0xB53CCA00#32
  | 57 => 0x3530D21D#32
  | 58 => 0xB525FE56#32
  | 59 => 0x351C2B08#32
  | 60 => 0xB51339CD#32
  | 61 => 0x350B1097#32
  | 62 => 0xB50398F7#32
  | 63 => 0x34F97F13#32
  | 64 => 0xB4ECE6F7#32
  | 65 => 0x34E14C49#32
  | 66 => 0xB4D69568#32
  | 67 => 0x34CCABDA#32
  | 68 => 0xB4C37BD6#32
  | 69 => 0x34BAF3E5#32
  | 70 => 0xB4B30492#32
  | 71 => 0x34ABA023#32
  | 72 => 0xB4A4BA5F#32
  | 73 => 0x349E485F#32
  | 74 => 0xB4984061#32
  | 75 => 0x349299A5#32
  | 76 => 0xB48D4C4D#32
  | 77 => 0x34885142#32
  | 78 => 0xB483A221#32
  | 79 => 0x347E723F#32
  | 80 => 0xB4762200#32
  | 81 => 0x346E49FF#32
  | 82 => 0xB466E193#32
  | 83 => 0x345FE0DA#32
  | 84 => 0xB45940A1#32
  | 85 => 0x3452FA51#32
  | 86 => 0xB44D07E6#32
  | 87 => 0x344763DA#32
  | 88 => 0xB4420919#32
  | 89 => 0x343CF2FA#32
  | 90 => 0xB4381D32#32
  | 91 => 0x343383CC#32
  | 92 => 0xB42F2322#32
  | 93 => 0x342AF7D2#32
  | 94 => 0xB426FEBD#32
  | 95 => 0x342334FF#32
  | 96 => 0xB41F97EA#32
  | 97 => 0x341C2500#32
  | 98 => 0xB418D9F0#32
  | 99 => 0x3415B495#32
  | 100 => 0xB412B2ED#32
  | 101 => 0x340FD31A#32
  | 102 => 0xB40D1360#32
  | 103 => 0x340A721F#32
  | 104 => 0xB407EDD1#32
  | 105 => 0x3405850C#32
  | 106 => 0xB403367C#32
  | 107 => 0x340100E3#32
  | 108 => 0xB3FDC62E#32
  | 109 => 0x33F9B800#32
  | 110 => 0xB3F5D532#32
  | 111 => 0x33F21BD6#32
  | 112 => 0xB3EE8A1F#32
  | 113 => 0x33EB1E5A#32
  | 114 => 0xB3E7D6EF#32
  | 115 => 0x33E4B25D#32
  | 116 => 0xB3E1AF3D#32
  | 117 => 0x33DECC38#32
  | 118 => 0xB3DC0810#32
  | 119 => 0x33D96196#32
  | 120 => 0xB3D6D7AE#32
  | 121 => 0x33D4694B#32
  | 122 => 0xB3D21572#32
  | 123 => 0x33CFDB34#32
  | 124 => 0xB3CDB9B1#32
  | 125 => 0x33CBB015#32
  | 126 => 0xB3C9BD97#32
  | 127 => 0x33C7E17D#32
  | _ => 0#32

noncomputable abbrev lit0t0_314 (i : Nat) : BitVec 32 := match i % 128 with
  | 0 => 0x33C7E17D#32
  | 1 => 0xB3C61B15#32
  | 2 => 0x33C469B8#32
  | 3 => 0xB3C2CCC7#32
  | 4 => 0x33C143B0#32
  | 5 => 0xB3BFCDE6#32
  | 6 => 0x33BE6AE7#32
  | 7 => 0xB3BD1A36#32
  | 8 => 0x33BBDB61#32
  | 9 => 0xB3BAADFB#32
  | 10 => 0x33B9919E#32
  | 11 => 0xB3B885EC#32
  | 12 => 0x33B78A8A#32
  | 13 => 0xB3B69F28#32
  | 14 => 0x33B5C377#32
  | 15 => 0xB3B4F732#32
  | 16 => 0x33B43A15#32
  | 17 => 0xB3B38BE5#32
  | 18 => 0x33B2EC6A#32
  | 19 => 0xB3B25B72#32
  | 20 => 0x33B1D8CF#32
  | 21 => 0xB3B16459#32
  | 22 => 0x33B0FDEA#32
  | 23 => 0xB3B0A563#32
  | 24 => 0x33B05AA9#32
  | 25 => 0xB3B01DA5#32
  | 26 => 0x33AFEE43#32
  | 27 => 0xB3AFCC75#32
  | 28 => 0x33AFB831#32
  | 29 => 0xB3AFB170#32
  | 30 => 0x33AFB831#32
  | 31 => 0xB3AFCC75#32
  | 32 => 0x33AFEE43#32
  | 33 => 0xB3B01DA5#32
  | 34 => 0x33B05AA9#32
  | 35 => 0xB3B0A563#32
  | 36 => 0x33B0FDEA#32
  | 37 => 0xB3B16459#32
  | 38 => 0x33B1D8CF#32
  | 39 => 0xB3B25B72#32
  | 40 => 0x33B2EC6A#32
  | 41 => 0xB3B38BE5#32
  | 42 => 0x33B43A15#32
  | 43 => 0xB3B4F732#32
  | 44 => 0x33B5C377#32
  | 45 => 0xB3B69F28#32
  | 46 => 0x33B78A8A#32
  | 47 => 0xB3B885EC#32
  | 48 => 0x33B9919E#32
  | 49 => 0xB3BAADFB#32
  | 50 => 0x33BBDB61#32
  | 51 => 0xB3BD1A36#32
  | 52 => 0x33BE6AE7#32
  | 53 => 0xB3BFCDE6#32
  | 54 => 0x33C143B0#32
  | 55 => 0xB3C2CCC7#32
  | 56 => 0x33C469B8#32
  | 57 => 0xB3C61B15#32
  | 58 => 0x33C7E17D#32
  | 59 => 0xB3C9BD97#32
  | 60 => 0x33CBB015#32
  | 61 => 0xB3CDB9B1#32
  | 62 => 0x33CFDB34#32
  | 63 => 0xB3D21572#32
  | 64 => 0x33D4694B#32
  | 65 => 0xB3D6D7AE#32
  | 66 => 0x33D96196#32
  | 67 => 0xB3DC0810#32
  | 68 => 0x33DECC38#32
  | 69 => 0xB3E1AF3D#32
  | 70 => 0x33E4B25D#32
  | 71 => 0xB3E7D6EF#32
  | 72 => 0x33EB1E5A#32
  | 73 => 0xB3EE8A1F#32
  | 74 => 0x33F21BD6#32
  | 75 => 0xB3F5D532#32
  | 76 => 0x33F9B800#32
  | 77 => 0xB3FDC62E#32
  | 78 => 0x340100E3#32
  | 79 => 0xB403367C#32
  | 80 => 0x3405850C#32
  | 81 => 0xB407EDD1#32
  | 82 => 0x340A721F#32
  | 83 => 0xB40D1360#32
  | 84 => 0x340FD31A#32
  | 85 => 0xB412B2ED#32
  | 86 => 0x3415B495#32
  | 87 => 0xB418D9F0#32
  | 88 => 0x341C2500#32
  | 89 => 0xB41F97EA#32
  | 90 => 0x342334FF#32
  | 91 => 0xB426FEBD#32
  | 92 => 0x342AF7D2#32
  | 93 => 0xB42F2322#32
  | 94 => 0x343383CC#32
  | 95 => 0xB4381D32#32
  | 96 => 0x343CF2FA#32
  | 97 => 0xB4420919#32
  | 98 => 0x344763DA#32
  | 99 => 0xB44D07E6#32
  | 100 => 0x3452FA51#32
  | 101 => 0xB45940A1#32
  | 102 => 0x345FE0DA#32
  | 103 => 0xB466E193#32
  | 104 => 0x346E49FF#32
  | 105 => 0xB4762200#32
  | 106 => 0x347E723F#32
  | 107 => 0xB483A221#32
  | 108 => 0x34885142#32
  | 109 => 0xB48D4C4D#32
  | 110 => 0x349299A5#32
  | 111 => 0xB4984061#32
  | 112 => 0x349E485F#32
  | 113 => 0xB4A4BA5F#32
  | 114 => 0x34ABA023#32
  | 115 => 0xB4B30492#32
  | 116 => 0x34BAF3E5#32
  | 117 => 0xB4C37BD6#32
  | 118 => 0x34CCABDA#32
  | 119 => 0xB4D69568#32
  | 120 => 0x34E14C49#32
  | 121 => 0xB4ECE6F7#32
  | 122 => 0x34F97F13#32
  | 123 => 0xB50398F7#32
  | 124 => 0x350B1097#32
  | 125 => 0xB51339CD#32
  | 126 => 0x351C2B08#32
  | 127 => 0xB525FE56#32
  | _ => 0#32

noncomputable abbrev lit0t0_315 (i : Nat) : BitVec 32 := match i % 128 with
  | 0 => 0x3530D21D#32
  | 1 => 0xB53CCA00#32
  | 2 => 0x354A0FF9#32
  | 3 => 0xB558D5BB#32
  | 4 => 0x35695670#32
  | 5 => 0xB57BD8F1#32
  | 6 => 0x3588594C#32
  | 7 => 0xB5942572#32
  | 8 => 0x35A19018#32
  | 9 => 0xB5B0E6EF#32
  | 10 => 0x35C28A3B#32
  | 11 => 0xB5D6F23A#32
  | 12 => 0x35EEB658#32
  | 13 => 0xB6054B76#32
  | 14 => 0x3615C529#32
  | 15 => 0xB6296767#32
  | 16 => 0x3641014B#32
  | 17 => 0xB65DA20C#32
  | 18 => 0x368056F2#32
  | 19 => 0xB695FBC4#32
  | 20 => 0x36B0ED61#32
  | 21 => 0xB6D29E9B#32
  | 22 => 0x36FFBDB2#32
  | 23 => 0xB692EE32#32
  | 24 => 0x391EBB1A#32
  | 25 => 0x3B12D0DF#32
  | 26 => 0x3CA0086D#32
  | 27 => 0x3DBAD58B#32
  | 28 => 0x3E6BB748#32
  | 29 => 0x3EA069FE#32
  | 30 => 0x3E6BB748#32
  | 31 => 0x3DBAD58B#32
  | 32 => 0x3CA0086D#32
  | 33 => 0x3B12D0DF#32
  | 34 => 0x391EBB1A#32
  | 35 => 0xB692EE32#32
  | 36 => 0x36FFBDB2#32
  | 37 => 0xB6D29E9B#32
  | 38 => 0x36B0ED61#32
  | 39 => 0xB695FBC4#32
  | 40 => 0x368056F2#32
  | 41 => 0xB65DA20C#32
  | 42 => 0x3641014B#32
  | 43 => 0xB6296767#32
  | 44 => 0x3615C529#32
  | 45 => 0xB6054B76#32
  | 46 => 0x35EEB658#32
  | 47 => 0xB5D6F23A#32
  | 48 => 0x35C28A3B#32
  | 49 => 0xB5B0E6EF#32
  | 50 => 0x35A19018#32
  | 51 => 0xB5942572#32
  | 52 => 0x3588594C#32
  | 53 => 0xB57BD8F1#32
  | 54 => 0x35695670#32
  | 55 => 0xB558D5BB#32
  | 56 => 0x354A0FF9#32
  | 57 => 0xB53CCA00#32
  | 58 => 0x3530D21D#32
  | 59 => 0xB525FE56#32
  | 60 => 0x351C2B08#32
  | 61 => 0xB51339CD#32
  | 62 => 0x350B1097#32
  | 63 => 0xB50398F7#32
  | 64 => 0x34F97F13#32
  | 65 => 0xB4ECE6F7#32
  | 66 => 0x34E14C49#32
  | 67 => 0xB4D69568#32
  | 68 => 0x34CCABDA#32
  | 69 => 0xB4C37BD6#32
  | 70 => 0x34BAF3E5#32
  | 71 => 0xB4B30492#32
  | 72 => 0x34ABA023#32
  | 73 => 0xB4A4BA5F#32
  | 74 => 0x349E485F#32
  | 75 => 0xB4984061#32
  | 76 => 0x349299A5#32
  | 77 => 0xB48D4C4D#32
  | 78 => 0x34885142#32
  | 79 => 0xB483A221#32
  | 80 => 0x347E723F#32
  | 81 => 0xB4762200#32
  | 82 => 0x346E49FF#32
  | 83 => 0xB466E193#32
  | 84 => 0x345FE0DA#32
  | 85 => 0xB45940A1#32
  | 86 => 0x3452FA51#32
  | 87 => 0xB44D07E6#32
  | 88 => 0x344763DA#32
  | 89 => 0xB4420919#32
  | 90 => 0x343CF2FA#32
  | 91 => 0xB4381D32#32
  | 92 => 0x343383CC#32
  | 93 => 0xB42F2322#32
  | 94 => 0x342AF7D2#32
  | 95 => 0xB426FEBD#32
  | 96 => 0x342334FF#32
  | 97 => 0xB41F97EA#32
  | 98 => 0x341C2500#32
  | 99 => 0xB418D9F0#32
  | 100 => 0x3415B495#32
  | 101 => 0xB412B2ED#32
  | 102 => 0x340FD31A#32
  | 103 => 0xB40D1360#32
  | 104 => 0x340A721F#32
  | 105 => 0xB407EDD1#32
  | 106 => 0x3405850C#32
  | 107 => 0xB403367C#32
  | 108 => 0x340100E3#32
  | 109 => 0xB3FDC62E#32
  | 110 => 0x33F9B800#32
  | 111 => 0xB3F5D532#32
  | 112 => 0x33F21BD6#32
  | 113 => 0xB3EE8A1F#32
  | 114 => 0x33EB1E5A#32
  | 115 => 0xB3E7D6EF#32
  | 116 => 0x33E4B25D#32
  | 117 => 0xB3E1AF3D#32
  | 118 => 0x33DECC38#32
  | 119 => 0xB3DC0810#32
  | 120 => 0x33D96196#32
  | 121 => 0xB3D6D7AE#32
  | 122 => 0x33D4694B#32
  | 123 => 0xB3D21572#32
  | 124 => 0x33CFDB34#32
  | 125 => 0xB3CDB9B1#32
  | 126 => 0x33CBB015#32
  | 127 => 0xB3C9BD97#32
  | _ => 0#32

noncomputable abbrev lit0t0_316 (i : Nat) : BitVec 32 := match i % 128 with
  | 0 => 0xB3C9BD97#32
  | 1 => 0x33C7E17D#32
  | 2 => 0xB3C61B15#32
  | 3 => 0x33C469B8#32
  | 4 => 0xB3C2CCC7#32
  | 5 => 0x33C143B0#32
  | 6 => 0xB3BFCDE6#32
  | 7 => 0x33BE6AE7#32
  | 8 => 0xB3BD1A36#32
  | 9 => 0x33BBDB61#32
  | 10 => 0xB3BAADFB#32
  | 11 => 0x33B9919E#32
  | 12 => 0xB3B885EC#32
  | 13 => 0x33B78A8A#32
  | 14 => 0xB3B69F28#32
  | 15 => 0x33B5C377#32
  | 16 => 0xB3B4F732#32
  | 17 => 0x33B43A15#32
  | 18 => 0xB3B38BE5#32
  | 19 => 0x33B2EC6A#32
  | 20 => 0xB3B25B72#32
  | 21 => 0x33B1D8CF#32
  | 22 => 0xB3B16459#32
  | 23 => 0x33B0FDEA#32
  | 24 => 0xB3B0A563#32
  | 25 => 0x33B05AA9#32
  | 26 => 0xB3B01DA5#32
  | 27 => 0x33AFEE43#32
  | 28 => 0xB3AFCC75#32
  | 29 => 0x33AFB831#32
  | 30 => 0xB3AFB170#32
  | 31 => 0x33AFB831#32
  | 32 => 0xB3AFCC75#32
  | 33 => 0x33AFEE43#32
  | 34 => 0xB3B01DA5#32
  | 35 => 0x33B05AA9#32
  | 36 => 0xB3B0A563#32
  | 37 => 0x33B0FDEA#32
  | 38 => 0xB3B16459#32
  | 39 => 0x33B1D8CF#32
  | 40 => 0xB3B25B72#32
  | 41 => 0x33B2EC6A#32
  | 42 => 0xB3B38BE5#32
  | 43 => 0x33B43A15#32
  | 44 => 0xB3B4F732#32
  | 45 => 0x33B5C377#32
  | 46 => 0xB3B69F28#32
  | 47 => 0x33B78A8A#32
  | 48 => 0xB3B885EC#32
  | 49 => 0x33B9919E#32
  | 50 => 0xB3BAADFB#32
  | 51 => 0x33BBDB61#32
  | 52 => 0xB3BD1A36#32
  | 53 => 0x33BE6AE7#32
  | 54 => 0xB3BFCDE6#32
  | 55 => 0x33C143B0#32
  | 56 => 0xB3C2CCC7#32
  | 57 => 0x33C469B8#32
  | 58 => 0xB3C61B15#32
  | 59 => 0x33C7E17D#32
  | 60 => 0xB3C9BD97#32
  | 61 => 0x33CBB015#32
  | 62 => 0xB3CDB9B1#32
  | 63 => 0x33CFDB34#32
  | 64 => 0xB3D21572#32
  | 65 => 0x33D4694B#32
  | 66 => 0xB3D6D7AE#32
  | 67 => 0x33D96196#32
  | 68 => 0xB3DC0810#32
  | 69 => 0x33DECC38#32
  | 70 => 0xB3E1AF3D#32
  | 71 => 0x33E4B25D#32
  | 72 => 0xB3E7D6EF#32
  | 73 => 0x33EB1E5A#32
  | 74 => 0xB3EE8A1F#32
  | 75 => 0x33F21BD6#32
  | 76 => 0xB3F5D532#32
  | 77 => 0x33F9B800#32
  | 78 => 0xB3FDC62E#32
  | 79 => 0x340100E3#32
  | 80 => 0xB403367C#32
  | 81 => 0x3405850C#32
  | 82 => 0xB407EDD1#32
  | 83 => 0x340A721F#32
  | 84 => 0xB40D1360#32
  | 85 => 0x340FD31A#32
  | 86 => 0xB412B2ED#32
  | 87 => 0x3415B495#32
  | 88 => 0xB418D9F0#32
  | 89 => 0x341C2500#32
  | 90 => 0xB41F97EA#32
  | 91 => 0x342334FF#32
  | 92 => 0xB426FEBD#32
  | 93 => 0x342AF7D2#32
  | 94 => 0xB42F2322#32
  | 95 => 0x343383CC#32
  | 96 => 0xB4381D32#32
  | 97 => 0x343CF2FA#32
  | 98 => 0xB4420919#32
  | 99 => 0x344763DA#32
  | 100 => 0xB44D07E6#32
  | 101 => 0x3452FA51#32
  | 102 => 0xB45940A1#32
  | 103 => 0x345FE0DA#32
  | 104 => 0xB466E193#32
  | 105 => 0x346E49FF#32
  | 106 => 0xB4762200#32
  | 107 => 0x347E723F#32
  | 108 => 0xB483A221#32
  | 109 => 0x34885142#32
  | 110 => 0xB48D4C4D#32
  | 111 => 0x349299A5#32
  | 112 => 0xB4984061#32
  | 113 => 0x349E485F#32
  | 114 => 0xB4A4BA5F#32
  | 115 => 0x34ABA023#32
  | 116 => 0xB4B30492#32
  | 117 => 0x34BAF3E5#32
  | 118 => 0xB4C37BD6#32
  | 119 => 0x34CCABDA#32
  | 120 => 0xB4D69568#32
  | 121 => 0x34E14C49#32
  | 122 => 0xB4ECE6F7#32
  | 123 => 0x34F97F13#32
  | 124 => 0xB50398F7#32
  | 125 => 0x350B1097#32
  | 126 => 0xB51339CD#32
  | 127 => 0x351C2B08#32
  | _ => 0#32

noncomputable abbrev lit0t0_317 (i : Nat) : BitVec 32 := match i % 128 with
  | 0 => 0xB525FE56#32
  | 1 => 0x3530D21D#32
  | 2 => 0xB53CCA00#32
  | 3 => 0x354A0FF9#32
  | 4 => 0xB558D5BB#32
  | 5 => 0x35695670#32
  | 6 => 0xB57BD8F1#32
  | 7 => 0x3588594C#32
  | 8 => 0xB5942572#32
  | 9 => 0x35A19018#32
  | 10 => 0xB5B0E6EF#32
  | 11 => 0x35C28A3B#32
  | 12 => 0xB5D6F23A#32
  | 13 => 0x35EEB658#32
  | 14 => 0xB6054B76#32
  | 15 => 0x3615C529#32
  | 16 => 0xB6296767#32
  | 17 => 0x3641014B#32
  | 18 => 0xB65DA20C#32
  | 19 => 0x368056F2#32
  | 20 => 0xB695FBC4#32
  | 21 => 0x36B0ED61#32
  | 22 => 0xB6D29E9B#32
  | 23 => 0x36FFBDB2#32
  | 24 => 0xB692EE32#32
  | 25 => 0x391EBB1A#32
  | 26 => 0x3B12D0DF#32
  | 27 => 0x3CA0086D#32
  | 28 => 0x3DBAD58B#32
  | 29 => 0x3E6BB748#32
  | 30 => 0x3EA069FE#32
  | 31 => 0x3E6BB748#32
  | 32 => 0x3DBAD58B#32
  | 33 => 0x3CA0086D#32
  | 34 => 0x3B12D0DF#32
  | 35 => 0x391EBB1A#32
  | 36 => 0xB692EE32#32
  | 37 => 0x36FFBDB2#32
  | 38 => 0xB6D29E9B#32
  | 39 => 0x36B0ED61#32
  | 40 => 0xB695FBC4#32
  | 41 => 0x368056F2#32
  | 42 => 0xB65DA20C#32
  | 43 => 0x3641014B#32
  | 44 => 0xB6296767#32
  | 45 => 0x3615C529#32
  | 46 => 0xB6054B76#32
  | 47 => 0x35EEB658#32
  | 48 => 0xB5D6F23A#32
  | 49 => 0x35C28A3B#32
  | 50 => 0xB5B0E6EF#32
  | 51 => 0x35A19018#32
  | 52 => 0xB5942572#32
  | 53 => 0x3588594C#32
  | 54 => 0xB57BD8F1#32
  | 55 => 0x35695670#32
  | 56 => 0xB558D5BB#32
  | 57 => 0x354A0FF9#32
  | 58 => 0xB53CCA00#32
  | 59 => 0x3530D21D#32
  | 60 => 0xB525FE56#32
  | 61 => 0x351C2B08#32
  | 62 => 0xB51339CD#32
  | 63 => 0x350B1097#32
  | 64 => 0xB50398F7#32
  | 65 => 0x34F97F13#32
  | 66 => 0xB4ECE6F7#32
  | 67 => 0x34E14C49#32
  | 68 => 0xB4D69568#32
  | 69 => 0x34CCABDA#32
  | 70 => 0xB4C37BD6#32
  | 71 => 0x34BAF3E5#32
  | 72 => 0xB4B30492#32
  | 73 => 0x34ABA023#32
  | 74 => 0xB4A4BA5F#32
  | 75 => 0x349E485F#32
  | 76 => 0xB4984061#32
  | 77 => 0x349299A5#32
  | 78 => 0xB48D4C4D#32
  | 79 => 0x34885143#32
  | 80 => 0xB483A221#32
  | 81 => 0x347E723F#32
  | 82 => 0xB4762200#32
  | 83 => 0x346E49FF#32
  | 84 => 0xB466E193#32
  | 85 => 0x345FE0DA#32
  | 86 => 0xB45940A1#32
  | 87 => 0x3452FA51#32
  | 88 => 0xB44D07E6#32
  | 89 => 0x344763DA#32
  | 90 => 0xB4420919#32
  | 91 => 0x343CF2FA#32
  | 92 => 0xB4381D32#32
  | 93 => 0x343383CC#32
  | 94 => 0xB42F2322#32
  | 95 => 0x342AF7D2#32
  | 96 => 0xB426FEBD#32
  | 97 => 0x342334FF#32
  | 98 => 0xB41F97EA#32
  | 99 => 0x341C2500#32
  | 100 => 0xB418D9F0#32
  | 101 => 0x3415B495#32
  | 102 => 0xB412B2ED#32
  | 103 => 0x340FD31A#32
  | 104 => 0xB40D1360#32
  | 105 => 0x340A721F#32
  | 106 => 0xB407EDD1#32
  | 107 => 0x3405850C#32
  | 108 => 0xB403367C#32
  | 109 => 0x340100E3#32
  | 110 => 0xB3FDC62E#32
  | 111 => 0x33F9B800#32
  | 112 => 0xB3F5D532#32
  | 113 => 0x33F21BD6#32
  | 114 => 0xB3EE8A1F#32
  | 115 => 0x33EB1E5A#32
  | 116 => 0xB3E7D6EF#32
  | 117 => 0x33E4B25D#32
  | 118 => 0xB3E1AF3D#32
  | 119 => 0x33DECC38#32
  | 120 => 0xB3DC0810#32
  | 121 => 0x33D96196#32
  | 122 => 0xB3D6D7AE#32
  | 123 => 0x33D4694B#32
  | 124 => 0xB3D21572#32
  | 125 => 0x33CFDB34#32
  | 126 => 0xB3CDB9B1#32
  | 127 => 0x33CBB015#32
  | _ => 0#32

noncomputable abbrev lit0t0_318 (i : Nat) : BitVec 32 := match i % 128 with
  | 0 => 0x33CBB015#32
  | 1 => 0xB3C9BD97#32
  | 2 => 0x33C7E17D#32
  | 3 => 0xB3C61B15#32
  | 4 => 0x33C469B8#32
  | 5 => 0xB3C2CCC7#32
  | 6 => 0x33C143B0#32
  | 7 => 0xB3BFCDE6#32
  | 8 => 0x33BE6AE7#32
  | 9 => 0xB3BD1A36#32
  | 10 => 0x33BBDB61#32
  | 11 => 0xB3BAADFB#32
  | 12 => 0x33B9919E#32
  | 13 => 0xB3B885EC#32
  | 14 => 0x33B78A8A#32
  | 15 => 0xB3B69F28#32
  | 16 => 0x33B5C377#32
  | 17 => 0xB3B4F732#32
  | 18 => 0x33B43A15#32
  | 19 => 0xB3B38BE5#32
  | 20 => 0x33B2EC6A#32
  | 21 => 0xB3B25B72#32
  | 22 => 0x33B1D8CF#32
  | 23 => 0xB3B16459#32
  | 24 => 0x33B0FDEA#32
  | 25 => 0xB3B0A563#32
  | 26 => 0x33B05AA9#32
  | 27 => 0xB3B01DA5#32
  | 28 => 0x33AFEE43#32
  | 29 => 0xB3AFCC75#32
  | 30 => 0x33AFB831#32
  | 31 => 0xB3AFB170#32
  | 32 => 0x33AFB831#32
  | 33 => 0xB3AFCC75#32
  | 34 => 0x33AFEE43#32
  | 35 => 0xB3B01DA5#32
  | 36 => 0x33B05AA9#32
  | 37 => 0xB3B0A563#32
  | 38 => 0x33B0FDEA#32
  | 39 => 0xB3B16459#32
  | 40 => 0x33B1D8CF#32
  | 41 => 0xB3B25B72#32
  | 42 => 0x33B2EC6A#32
  | 43 => 0xB3B38BE5#32
  | 44 => 0x33B43A15#32
  | 45 => 0xB3B4F732#32
  | 46 => 0x33B5C377#32
  | 47 => 0xB3B69F28#32
  | 48 => 0x33B78A8A#32
  | 49 => 0xB3B885EC#32
  | 50 => 0x33B9919E#32
  | 51 => 0xB3BAADFB#32
  | 52 => 0x33BBDB61#32
  | 53 => 0xB3BD1A36#32
  | 54 => 0x33BE6AE7#32
  | 55 => 0xB3BFCDE6#32
  | 56 => 0x33C143B0#32
  | 57 => 0xB3C2CCC7#32
  | 58 => 0x33C469B8#32
  | 59 => 0xB3C61B15#32
  | 60 => 0x33C7E17D#32
  | 61 => 0xB3C9BD97#32
  | 62 => 0x33CBB015#32
  | 63 => 0xB3CDB9B1#32
  | 64 => 0x33CFDB34#32
  | 65 => 0xB3D21572#32
  | 66 => 0x33D4694B#32
  | 67 => 0xB3D6D7AE#32
  | 68 => 0x33D96196#32
  | 69 => 0xB3DC0810#32
  | 70 => 0x33DECC38#32
  | 71 => 0xB3E1AF3D#32
  | 72 => 0x33E4B25D#32
  | 73 => 0xB3E7D6EF#32
  | 74 => 0x33EB1E5A#32
  | 75 => 0xB3EE8A1F#32
  | 76 => 0x33F21BD6#32
  | 77 => 0xB3F5D532#32
  | 78 => 0x33F9B800#32
  | 79 => 0xB3FDC62E#32
  | 80 => 0x340100E3#32
  | 81 => 0xB403367C#32
  | 82 => 0x3405850C#32
  | 83 => 0xB407EDD1#32
  | 84 => 0x340A721F#32
  | 85 => 0xB40D1360#32
  | 86 => 0x340FD31A#32
  | 87 => 0xB412B2ED#32
  | 88 => 0x3415B495#32
  | 89 => 0xB418D9F0#32
  | 90 => 0x341C2500#32
  | 91 => 0xB41F97EA#32
  | 92 => 0x342334FF#32
  | 93 => 0xB426FEBD#32
  | 94 => 0x342AF7D2#32
  | 95 => 0xB42F2322#32
  | 96 => 0x343383CC#32
  | 97 => 0xB4381D32#32
  | 98 => 0x343CF2FA#32
  | 99 => 0xB4420919#32
  | 100 => 0x344763DA#32
  | 101 => 0xB44D07E6#32
  | 102 => 0x3452FA51#32
  | 103 => 0xB45940A1#32
  | 104 => 0x345FE0DA#32
  | 105 => 0xB466E193#32
  | 106 => 0x346E49FF#32
  | 107 => 0xB4762200#32
  | 108 => 0x347E723F#32
  | 109 => 0xB483A221#32
  | 110 => 0x34885143#32
  | 111 => 0xB48D4C4D#32
  | 112 => 0x349299A5#32
  | 113 => 0xB4984061#32
  | 114 => 0x349E485F#32
  | 115 => 0xB4A4BA5F#32
  | 116 => 0x34ABA023#32
  | 117 => 0xB4B30492#32
  | 118 => 0x34BAF3E5#32
  | 119 => 0xB4C37BD6#32
  | 120 => 0x34CCABDA#32
  | 121 => 0xB4D69568#32
  | 122 => 0x34E14C49#32
  | 123 => 0xB4ECE6F7#32
  | 124 => 0x34F97F13#32
  | 125 => 0xB50398F7#32
  | 126 => 0x350B1097#32
  | 127 => 0xB51339CD#32
  | _ => 0#32

noncomputable abbrev lit0t0_319 (i : Nat) : BitVec 32 := match i % 128 with
  | 0 => 0x351C2B08#32
  | 1 => 0xB525FE56#32
  | 2 => 0x3530D21D#32
  | 3 => 0xB53CCA00#32
  | 4 => 0x354A0FF9#32
  | 5 => 0xB558D5BB#32
  | 6 => 0x35695670#32
  | 7 => 0xB57BD8F1#32
  | 8 => 0x3588594C#32
  | 9 => 0xB5942572#32
  | 10 => 0x35A19018#32
  | 11 => 0xB5B0E6EF#32
  | 12 => 0x35C28A3B#32
  | 13 => 0xB5D6F23A#32
  | 14 => 0x35EEB658#32
  | 15 => 0xB6054B76#32
  | 16 => 0x3615C529#32
  | 17 => 0xB6296767#32
  | 18 => 0x3641014B#32
  | 19 => 0xB65DA20C#32
  | 20 => 0x368056F2#32
  | 21 => 0xB695FBC4#32
  | 22 => 0x36B0ED61#32
  | 23 => 0xB6D29E9B#32
  | 24 => 0x36FFBDB2#32
  | 25 => 0xB692EE32#32
  | 26 => 0x391EBB1A#32
  | 27 => 0x3B12D0DF#32
  | 28 => 0x3CA0086D#32
  | 29 => 0x3DBAD58B#32
  | 30 => 0x3E6BB748#32
  | 31 => 0x3EA069FE#32
  | 32 => 0x3E6BB748#32
  | 33 => 0x3DBAD58B#32
  | 34 => 0x3CA0086D#32
  | 35 => 0x3B12D0DF#32
  | 36 => 0x391EBB1A#32
  | 37 => 0xB692EE32#32
  | 38 => 0x36FFBDB2#32
  | 39 => 0xB6D29E9B#32
  | 40 => 0x36B0ED61#32
  | 41 => 0xB695FBC4#32
  | 42 => 0x368056F2#32
  | 43 => 0xB65DA20C#32
  | 44 => 0x3641014B#32
  | 45 => 0xB6296767#32
  | 46 => 0x3615C529#32
  | 47 => 0xB6054B76#32
  | 48 => 0x35EEB658#32
  | 49 => 0xB5D6F23A#32
  | 50 => 0x35C28A3B#32
  | 51 => 0xB5B0E6EF#32
  | 52 => 0x35A19018#32
  | 53 => 0xB5942572#32
  | 54 => 0x3588594C#32
  | 55 => 0xB57BD8F1#32
  | 56 => 0x35695670#32
  | 57 => 0xB558D5BB#32
  | 58 => 0x354A0FF9#32
  | 59 => 0xB53CCA00#32
  | 60 => 0x3530D21D#32
  | 61 => 0xB525FE56#32
  | 62 => 0x351C2B08#32
  | 63 => 0xB51339CD#32
  | 64 => 0x350B1097#32
  | 65 => 0xB50398F7#32
  | 66 => 0x34F97F13#32
  | 67 => 0xB4ECE6F7#32
  | 68 => 0x34E14C49#32
  | 69 => 0xB4D69568#32
  | 70 => 0x34CCABDA#32
  | 71 => 0xB4C37BD6#32
  | 72 => 0x34BAF3E5#32
  | 73 => 0xB4B30492#32
  | 74 => 0x34ABA023#32
  | 75 => 0xB4A4BA5F#32
  | 76 => 0x349E485F#32
  | 77 => 0xB4984061#32
  | 78 => 0x349299A5#32
  | 79 => 0xB48D4C4D#32
  | 80 => 0x34885143#32
  | 81 => 0xB483A221#32
  | 82 => 0x347E723F#32
  | 83 => 0xB4762200#32
  | 84 => 0x346E49FF#32
  | 85 => 0xB466E193#32
  | 86 => 0x345FE0DA#32
  | 87 => 0xB45940A1#32
  | 88 => 0x3452FA51#32
  | 89 => 0xB44D07E6#32
  | 90 => 0x344763DA#32
  | 91 => 0xB4420919#32
  | 92 => 0x343CF2FA#32
  | 93 => 0xB4381D32#32
  | 94 => 0x343383CC#32
  | 95 => 0xB42F2322#32
  | 96 => 0x342AF7D2#32
  | 97 => 0xB426FEBD#32
  | 98 => 0x342334FF#32
  | 99 => 0xB41F97EA#32
  | 100 => 0x341C2500#32
  | 101 => 0xB418D9F0#32
  | 102 => 0x3415B495#32
  | 103 => 0xB412B2ED#32
  | 104 => 0x340FD31A#32
  | 105 => 0xB40D1360#32
  | 106 => 0x340A721F#32
  | 107 => 0xB407EDD1#32
  | 108 => 0x3405850C#32
  | 109 => 0xB403367C#32
  | 110 => 0x340100E3#32
  | 111 => 0xB3FDC62E#32
  | 112 => 0x33F9B800#32
  | 113 => 0xB3F5D532#32
  | 114 => 0x33F21BD6#32
  | 115 => 0xB3EE8A1F#32
  | 116 => 0x33EB1E5A#32
  | 117 => 0xB3E7D6EF#32
  | 118 => 0x33E4B25D#32
  | 119 => 0xB3E1AF3D#32
  | 120 => 0x33DECC38#32
  | 121 => 0xB3DC0810#32
  | 122 => 0x33D96196#32
  | 123 => 0xB3D6D7AE#32
  | 124 => 0x33D4694B#32
  | 125 => 0xB3D21572#32
  | 126 => 0x33CFDB34#32
  | 127 => 0xB3CDB9B1#32
  | _ => 0#32

noncomputable abbrev lit0t0_320 (i : Nat) : BitVec 32 := match i % 128 with
  | 0 => 0xB3CDB9B1#32
  | 1 => 0x33CBB015#32
  | 2 => 0xB3C9BD97#32
  | 3 => 0x33C7E17D#32
  | 4 => 0xB3C61B15#32
  | 5 => 0x33C469B8#32
  | 6 => 0xB3C2CCC7#32
  | 7 => 0x33C143B0#32
  | 8 => 0xB3BFCDE6#32
  | 9 => 0x33BE6AE7#32
  | 10 => 0xB3BD1A36#32
  | 11 => 0x33BBDB61#32
  | 12 => 0xB3BAADFB#32
  | 13 => 0x33B9919E#32
  | 14 => 0xB3B885EC#32
  | 15 => 0x33B78A8A#32
  | 16 => 0xB3B69F28#32
  | 17 => 0x33B5C377#32
  | 18 => 0xB3B4F732#32
  | 19 => 0x33B43A15#32
  | 20 => 0xB3B38BE5#32
  | 21 => 0x33B2EC6A#32
  | 22 => 0xB3B25B72#32
  | 23 => 0x33B1D8CF#32
  | 24 => 0xB3B16459#32
  | 25 => 0x33B0FDEA#32
  | 26 => 0xB3B0A563#32
  | 27 => 0x33B05AA9#32
  | 28 => 0xB3B01DA5#32
  | 29 => 0x33AFEE43#32
  | 30 => 0xB3AFCC75#32
  | 31 => 0x33AFB831#32
  | 32 => 0xB3AFB170#32
  | 33 => 0x33AFB831#32
  | 34 => 0xB3AFCC75#32
  | 35 => 0x33AFEE43#32
  | 36 => 0xB3B01DA5#32
  | 37 => 0x33B05AA9#32
  | 38 => 0xB3B0A563#32
  | 39 => 0x33B0FDEA#32
  | 40 => 0xB3B16459#32
  | 41 => 0x33B1D8CF#32
  | 42 => 0xB3B25B72#32
  | 43 => 0x33B2EC6A#32
  | 44 => 0xB3B38BE5#32
  | 45 => 0x33B43A15#32
  | 46 => 0xB3B4F732#32
  | 47 => 0x33B5C377#32
  | 48 => 0xB3B69F28#32
  | 49 => 0x33B78A8A#32
  | 50 => 0xB3B885EC#32
  | 51 => 0x33B9919E#32
  | 52 => 0xB3BAADFB#32
  | 53 => 0x33BBDB61#32
  | 54 => 0xB3BD1A36#32
  | 55 => 0x33BE6AE7#32
  | 56 => 0xB3BFCDE6#32
  | 57 => 0x33C143B0#32
  | 58 => 0xB3C2CCC7#32
  | 59 => 0x33C469B8#32
  | 60 => 0xB3C61B15#32
  | 61 => 0x33C7E17D#32
  | 62 => 0xB3C9BD97#32
  | 63 => 0x33CBB015#32
  | 64 => 0xB3CDB9B1#32
  | 65 => 0x33CFDB34#32
  | 66 => 0xB3D21572#32
  | 67 => 0x33D4694B#32
  | 68 => 0xB3D6D7AE#32
  | 69 => 0x33D96196#32
  | 70 => 0xB3DC0810#32
  | 71 => 0x33DECC38#32
  | 72 => 0xB3E1AF3D#32
  | 73 => 0x33E4B25D#32
  | 74 => 0xB3E7D6EF#32
  | 75 => 0x33EB1E5A#32
  | 76 => 0xB3EE8A1F#32
  | 77 => 0x33F21BD6#32
  | 78 => 0xB3F5D532#32
  | 79 => 0x33F9B800#32
  | 80 => 0xB3FDC62E#32
  | 81 => 0x340100E3#32
  | 82 => 0xB403367C#32
  | 83 => 0x3405850C#32
  | 84 => 0xB407EDD1#32
  | 85 => 0x340A721F#32
  | 86 => 0xB40D1360#32
  | 87 => 0x340FD31A#32
  | 88 => 0xB412B2ED#32
  | 89 => 0x3415B495#32
  | 90 => 0xB418D9F0#32
  | 91 => 0x341C2500#32
  | 92 => 0xB41F97EA#32
  | 93 => 0x342334FF#32
  | 94 => 0xB426FEBD#32
  | 95 => 0x342AF7D2#32
  | 96 => 0xB42F2322#32
  | 97 => 0x343383CC#32
  | 98 => 0xB4381D32#32
  | 99 => 0x343CF2FA#32
  | 100 => 0xB4420919#32
  | 101 => 0x344763DA#32
  | 102 => 0xB44D07E6#32
  | 103 => 0x3452FA51#32
  | 104 => 0xB45940A1#32
  | 105 => 0x345FE0DA#32
  | 106 => 0xB466E193#32
  | 107 => 0x346E49FF#32
  | 108 => 0xB4762200#32
  | 109 => 0x347E723F#32
  | 110 => 0xB483A221#32
  | 111 => 0x34885143#32
  | 112 => 0xB48D4C4D#32
  | 113 => 0x349299A5#32
  | 114 => 0xB4984061#32
  | 115 => 0x349E485F#32
  | 116 => 0xB4A4BA5F#32
  | 117 => 0x34ABA023#32
  | 118 => 0xB4B30492#32
  | 119 => 0x34BAF3E5#32
  | 120 => 0xB4C37BD6#32
  | 121 => 0x34CCABDA#32
  | 122 => 0xB4D69568#32
  | 123 => 0x34E14C49#32
  | 124 => 0xB4ECE6F7#32
  | 125 => 0x34F97F13#32
  | 126 => 0xB50398F7#32
  | 127 => 0x350B1097#32
  | _ => 0#32

noncomputable abbrev lit0t0_321 (i : Nat) : BitVec 32 := match i % 128 with
  | 0 => 0xB51339CD#32
  | 1 => 0x351C2B08#32
  | 2 => 0xB525FE56#32
  | 3 => 0x3530D21D#32
  | 4 => 0xB53CCA00#32
  | 5 => 0x354A0FF9#32
  | 6 => 0xB558D5BB#32
  | 7 => 0x35695670#32
  | 8 => 0xB57BD8F1#32
  | 9 => 0x3588594C#32
  | 10 => 0xB5942572#32
  | 11 => 0x35A19018#32
  | 12 => 0xB5B0E6EF#32
  | 13 => 0x35C28A3B#32
  | 14 => 0xB5D6F23A#32
  | 15 => 0x35EEB658#32
  | 16 => 0xB6054B76#32
  | 17 => 0x3615C529#32
  | 18 => 0xB6296767#32
  | 19 => 0x3641014B#32
  | 20 => 0xB65DA20C#32
  | 21 => 0x368056F2#32
  | 22 => 0xB695FBC4#32
  | 23 => 0x36B0ED61#32
  | 24 => 0xB6D29E9B#32
  | 25 => 0x36FFBDB2#32
  | 26 => 0xB692EE32#32
  | 27 => 0x391EBB1A#32
  | 28 => 0x3B12D0DF#32
  | 29 => 0x3CA0086D#32
  | 30 => 0x3DBAD58B#32
  | 31 => 0x3E6BB748#32
  | 32 => 0x3EA069FE#32
  | 33 => 0x3E6BB748#32
  | 34 => 0x3DBAD58B#32
  | 35 => 0x3CA0086D#32
  | 36 => 0x3B12D0DF#32
  | 37 => 0x391EBB1A#32
  | 38 => 0xB692EE32#32
  | 39 => 0x36FFBDB2#32
  | 40 => 0xB6D29E9B#32
  | 41 => 0x36B0ED61#32
  | 42 => 0xB695FBC4#32
  | 43 => 0x368056F2#32
  | 44 => 0xB65DA20C#32
  | 45 => 0x3641014B#32
  | 46 => 0xB6296767#32
  | 47 => 0x3615C529#32
  | 48 => 0xB6054B76#32
  | 49 => 0x35EEB658#32
  | 50 => 0xB5D6F23A#32
  | 51 => 0x35C28A3B#32
  | 52 => 0xB5B0E6EF#32
  | 53 => 0x35A19018#32
  | 54 => 0xB5942572#32
  | 55 => 0x3588594C#32
  | 56 => 0xB57BD8F1#32
  | 57 => 0x35695670#32
  | 58 => 0xB558D5BB#32
  | 59 => 0x354A0FF9#32
  | 60 => 0xB53CCA00#32
  | 61 => 0x3530D21D#32
  | 62 => 0xB525FE56#32
  | 63 => 0x351C2B08#32
  | 64 => 0xB51339CD#32
  | 65 => 0x350B1097#32
  | 66 => 0xB50398F7#32
  | 67 => 0x34F97F13#32
  | 68 => 0xB4ECE6F7#32
  | 69 => 0x34E14C49#32
  | 70 => 0xB4D69568#32
  | 71 => 0x34CCABDA#32
  | 72 => 0xB4C37BD6#32
  | 73 => 0x34BAF3E5#32
  | 74 => 0xB4B30492#32
  | 75 => 0x34ABA023#32
  | 76 => 0xB4A4BA5F#32
  | 77 => 0x349E485F#32
  | 78 => 0xB4984061#32
  | 79 => 0x349299A5#32
  | 80 => 0xB48D4C4D#32
  | 81 => 0x34885142#32
  | 82 => 0xB483A221#32
  | 83 => 0x347E723F#32
  | 84 => 0xB4762200#32
  | 85 => 0x346E49FF#32
  | 86 => 0xB466E193#32
  | 87 => 0x345FE0DA#32
  | 88 => 0xB45940A1#32
  | 89 => 0x3452FA51#32
  | 90 => 0xB44D07E6#32
  | 91 => 0x344763DA#32
  | 92 => 0xB4420919#32
  | 93 => 0x343CF2FA#32
  | 94 => 0xB4381D32#32
  | 95 => 0x343383CC#32
  | 96 => 0xB42F2322#32
  | 97 => 0x342AF7D2#32
  | 98 => 0xB426FEBD#32
  | 99 => 0x342334FF#32
  | 100 => 0xB41F97EA#32
  | 101 => 0x341C2500#32
  | 102 => 0xB418D9F0#32
  | 103 => 0x3415B495#32
  | 104 => 0xB412B2ED#32
  | 105 => 0x340FD31A#32
  | 106 => 0xB40D1360#32
  | 107 => 0x340A721F#32
  | 108 => 0xB407EDD1#32
  | 109 => 0x3405850C#32
  | 110 => 0xB403367C#32
  | 111 => 0x340100E3#32
  | 112 => 0xB3FDC62E#32
  | 113 => 0x33F9B800#32
  | 114 => 0xB3F5D532#32
  | 115 => 0x33F21BD6#32
  | 116 => 0xB3EE8A1F#32
  | 117 => 0x33EB1E5A#32
  | 118 => 0xB3E7D6EF#32
  | 119 => 0x33E4B25D#32
  | 120 => 0xB3E1AF3D#32
  | 121 => 0x33DECC38#32
  | 122 => 0xB3DC0810#32
  | 123 => 0x33D96196#32
  | 124 => 0xB3D6D7AE#32
  | 125 => 0x33D4694B#32
  | 126 => 0xB3D21572#32
  | 127 => 0x33CFDB34#32
  | _ => 0#32

noncomputable abbrev lit0t0_322 (i : Nat) : BitVec 32 := match i % 128 with
  | 0 => 0x33CFDB34#32
  | 1 => 0xB3CDB9B1#32
  | 2 => 0x33CBB015#32
  | 3 => 0xB3C9BD97#32
  | 4 => 0x33C7E17D#32
  | 5 => 0xB3C61B15#32
  | 6 => 0x33C469B8#32
  | 7 => 0xB3C2CCC7#32
  | 8 => 0x33C143B0#32
  | 9 => 0xB3BFCDE6#32
  | 10 => 0x33BE6AE7#32
  | 11 => 0xB3BD1A36#32
  | 12 => 0x33BBDB61#32
  | 13 => 0xB3BAADFB#32
  | 14 => 0x33B9919E#32
  | 15 => 0xB3B885EC#32
  | 16 => 0x33B78A8A#32
  | 17 => 0xB3B69F28#32
  | 18 => 0x33B5C377#32
  | 19 => 0xB3B4F732#32
  | 20 => 0x33B43A15#32
  | 21 => 0xB3B38BE5#32
  | 22 => 0x33B2EC6A#32
  | 23 => 0xB3B25B72#32
  | 24 => 0x33B1D8CF#32
  | 25 => 0xB3B16459#32
  | 26 => 0x33B0FDEA#32
  | 27 => 0xB3B0A563#32
  | 28 => 0x33B05AA9#32
  | 29 => 0xB3B01DA5#32
  | 30 => 0x33AFEE43#32
  | 31 => 0xB3AFCC75#32
  | 32 => 0x33AFB831#32
  | 33 => 0xB3AFB170#32
  | 34 => 0x33AFB831#32
  | 35 => 0xB3AFCC75#32
  | 36 => 0x33AFEE43#32
  | 37 => 0xB3B01DA5#32
  | 38 => 0x33B05AA9#32
  | 39 => 0xB3B0A563#32
  | 40 => 0x33B0FDEA#32
  | 41 => 0xB3B16459#32
  | 42 => 0x33B1D8CF#32
  | 43 => 0xB3B25B72#32
  | 44 => 0x33B2EC6A#32
  | 45 => 0xB3B38BE5#32
  | 46 => 0x33B43A15#32
  | 47 => 0xB3B4F732#32
  | 48 => 0x33B5C377#32
  | 49 => 0xB3B69F28#32
  | 50 => 0x33B78A8A#32
  | 51 => 0xB3B885EC#32
  | 52 => 0x33B9919E#32
  | 53 => 0xB3BAADFB#32
  | 54 => 0x33BBDB61#32
  | 55 => 0xB3BD1A36#32
  | 56 => 0x33BE6AE7#32
  | 57 => 0xB3BFCDE6#32
  | 58 => 0x33C143B0#32
  | 59 => 0xB3C2CCC7#32
  | 60 => 0x33C469B8#32
  | 61 => 0xB3C61B15#32
  | 62 => 0x33C7E17D#32
  | 63 => 0xB3C9BD97#32
  | 64 => 0x33CBB015#32
  | 65 => 0xB3CDB9B1#32
  | 66 => 0x33CFDB34#32
  | 67 => 0xB3D21572#32
  | 68 => 0x33D4694B#32
  | 69 => 0xB3D6D7AE#32
  | 70 => 0x33D96196#32
  | 71 => 0xB3DC0810#32
  | 72 => 0x33DECC38#32
  | 73 => 0xB3E1AF3D#32
  | 74 => 0x33E4B25D#32
  | 75 => 0xB3E7D6EF#32
  | 76 => 0x33EB1E5A#32
  | 77 => 0xB3EE8A1F#32
  | 78 => 0x33F21BD6#32
  | 79 => 0xB3F5D532#32
  | 80 => 0x33F9B800#32
  | 81 => 0xB3FDC62E#32
  | 82 => 0x340100E3#32
  | 83 => 0xB403367C#32
  | 84 => 0x3405850C#32
  | 85 => 0xB407EDD1#32
  | 86 => 0x340A721F#32
  | 87 => 0xB40D1360#32
  | 88 => 0x340FD31A#32
  | 89 => 0xB412B2ED#32
  | 90 => 0x3415B495#32
  | 91 => 0xB418D9F0#32
  | 92 => 0x341C2500#32
  | 93 => 0xB41F97EA#32
  | 94 => 0x342334FF#32
  | 95 => 0xB426FEBD#32
  | 96 => 0x342AF7D2#32
  | 97 => 0xB42F2322#32
  | 98 => 0x343383CC#32
  | 99 => 0xB4381D32#32
  | 100 => 0x343CF2FA#32
  | 101 => 0xB4420919#32
  | 102 => 0x344763DA#32
  | 103 => 0xB44D07E6#32
  | 104 => 0x3452FA51#32
  | 105 => 0xB45940A1#32
  | 106 => 0x345FE0DA#32
  | 107 => 0xB466E193#32
  | 108 => 0x346E49FF#32
  | 109 => 0xB4762200#32
  | 110 => 0x347E723F#32
  | 111 => 0xB483A221#32
  | 112 => 0x34885142#32
  | 113 => 0xB48D4C4D#32
  | 114 => 0x349299A5#32
  | 115 => 0xB4984061#32
  | 116 => 0x349E485F#32
  | 117 => 0xB4A4BA5F#32
  | 118 => 0x34ABA023#32
  | 119 => 0xB4B30492#32
  | 120 => 0x34BAF3E5#32
  | 121 => 0xB4C37BD6#32
  | 122 => 0x34CCABDA#32
  | 123 => 0xB4D69568#32
  | 124 => 0x34E14C49#32
  | 125 => 0xB4ECE6F7#32
  | 126 => 0x34F97F13#32
  | 127 => 0xB50398F7#32
  | _ => 0#32

noncomputable abbrev lit0t0_323 (i : Nat) : BitVec 32 := match i % 128 with
  | 0 => 0x350B1097#32
  | 1 => 0xB51339CD#32
  | 2 => 0x351C2B08#32
  | 3 => 0xB525FE56#32
  | 4 => 0x3530D21D#32
  | 5 => 0xB53CCA00#32
  | 6 => 0x354A0FF9#32
  | 7 => 0xB558D5BB#32
  | 8 => 0x35695670#32
  | 9 => 0xB57BD8F1#32
  | 10 => 0x3588594C#32
  | 11 => 0xB5942572#32
  | 12 => 0x35A19018#32
  | 13 => 0xB5B0E6EF#32
  | 14 => 0x35C28A3B#32
  | 15 => 0xB5D6F23A#32
  | 16 => 0x35EEB658#32
  | 17 => 0xB6054B76#32
  | 18 => 0x3615C529#32
  | 19 => 0xB6296767#32
  | 20 => 0x3641014B#32
  | 21 => 0xB65DA20C#32
  | 22 => 0x368056F2#32
  | 23 => 0xB695FBC4#32
  | 24 => 0x36B0ED61#32
  | 25 => 0xB6D29E9B#32
  | 26 => 0x36FFBDB2#32
  | 27 => 0xB692EE32#32
  | 28 => 0x391EBB1A#32
  | 29 => 0x3B12D0DF#32
  | 30 => 0x3CA0086D#32
  | 31 => 0x3DBAD58B#32
  | 32 => 0x3E6BB748#32
  | 33 => 0x3EA069FE#32
  | 34 => 0x3E6BB748#32
  | 35 => 0x3DBAD58B#32
  | 36 => 0x3CA0086D#32
  | 37 => 0x3B12D0DF#32
  | 38 => 0x391EBB1A#32
  | 39 => 0xB692EE32#32
  | 40 => 0x36FFBDB2#32
  | 41 => 0xB6D29E9B#32
  | 42 => 0x36B0ED61#32
  | 43 => 0xB695FBC4#32
  | 44 => 0x368056F2#32
  | 45 => 0xB65DA20C#32
  | 46 => 0x3641014B#32
  | 47 => 0xB6296767#32
  | 48 => 0x3615C529#32
  | 49 => 0xB6054B76#32
  | 50 => 0x35EEB658#32
  | 51 => 0xB5D6F23A#32
  | 52 => 0x35C28A3B#32
  | 53 => 0xB5B0E6EF#32
  | 54 => 0x35A19018#32
  | 55 => 0xB5942572#32
  | 56 => 0x3588594C#32
  | 57 => 0xB57BD8F1#32
  | 58 => 0x35695670#32
  | 59 => 0xB558D5BB#32
  | 60 => 0x354A0FF9#32
  | 61 => 0xB53CCA00#32
  | 62 => 0x3530D21D#32
  | 63 => 0xB525FE56#32
  | 64 => 0x351C2B08#32
  | 65 => 0xB51339CD#32
  | 66 => 0x350B1097#32
  | 67 => 0xB50398F7#32
  | 68 => 0x34F97F13#32
  | 69 => 0xB4ECE6F7#32
  | 70 => 0x34E14C49#32
  | 71 => 0xB4D69568#32
  | 72 => 0x34CCABDA#32
  | 73 => 0xB4C37BD6#32
  | 74 => 0x34BAF3E5#32
  | 75 => 0xB4B30492#32
  | 76 => 0x34ABA023#32
  | 77 => 0xB4A4BA5F#32
  | 78 => 0x349E485F#32
  | 79 => 0xB4984061#32
  | 80 => 0x349299A5#32
  | 81 => 0xB48D4C4D#32
  | 82 => 0x34885143#32
  | 83 => 0xB483A221#32
  | 84 => 0x347E723F#32
  | 85 => 0xB4762200#32
  | 86 => 0x346E49FF#32
  | 87 => 0xB466E193#32
  | 88 => 0x345FE0DA#32
  | 89 => 0xB45940A1#32
  | 90 => 0x3452FA51#32
  | 91 => 0xB44D07E6#32
  | 92 => 0x344763DA#32
  | 93 => 0xB4420919#32
  | 94 => 0x343CF2FA#32
  | 95 => 0xB4381D32#32
  | 96 => 0x343383CC#32
  | 97 => 0xB42F2322#32
  | 98 => 0x342AF7D2#32
  | 99 => 0xB426FEBD#32
  | 100 => 0x342334FF#32
  | 101 => 0xB41F97EA#32
  | 102 => 0x341C2500#32
  | 103 => 0xB418D9F0#32
  | 104 => 0x3415B495#32
  | 105 => 0xB412B2ED#32
  | 106 => 0x340FD31A#32
  | 107 => 0xB40D1360#32
  | 108 => 0x340A721F#32
  | 109 => 0xB407EDD1#32
  | 110 => 0x3405850C#32
  | 111 => 0xB403367C#32
  | 112 => 0x340100E3#32
  | 113 => 0xB3FDC62E#32
  | 114 => 0x33F9B800#32
  | 115 => 0xB3F5D532#32
  | 116 => 0x33F21BD6#32
  | 117 => 0xB3EE8A1F#32
  | 118 => 0x33EB1E5A#32
  | 119 => 0xB3E7D6EF#32
  | 120 => 0x33E4B25D#32
  | 121 => 0xB3E1AF3D#32
  | 122 => 0x33DECC38#32
  | 123 => 0xB3DC0810#32
  | 124 => 0x33D96196#32
  | 125 => 0xB3D6D7AE#32
  | 126 => 0x33D4694B#32
  | 127 => 0xB3D21572#32
  | _ => 0#32

noncomputable abbrev lit0t0_324 (i : Nat) : BitVec 32 := match i % 128 with
  | 0 => 0xB3D21572#32
  | 1 => 0x33CFDB34#32
  | 2 => 0xB3CDB9B1#32
  | 3 => 0x33CBB015#32
  | 4 => 0xB3C9BD97#32
  | 5 => 0x33C7E17D#32
  | 6 => 0xB3C61B15#32
  | 7 => 0x33C469B8#32
  | 8 => 0xB3C2CCC7#32
  | 9 => 0x33C143B0#32
  | 10 => 0xB3BFCDE6#32
  | 11 => 0x33BE6AE7#32
  | 12 => 0xB3BD1A36#32
  | 13 => 0x33BBDB61#32
  | 14 => 0xB3BAADFB#32
  | 15 => 0x33B9919E#32
  | 16 => 0xB3B885EC#32
  | 17 => 0x33B78A8A#32
  | 18 => 0xB3B69F28#32
  | 19 => 0x33B5C377#32
  | 20 => 0xB3B4F732#32
  | 21 => 0x33B43A15#32
  | 22 => 0xB3B38BE5#32
  | 23 => 0x33B2EC6A#32
  | 24 => 0xB3B25B72#32
  | 25 => 0x33B1D8CF#32
  | 26 => 0xB3B16459#32
  | 27 => 0x33B0FDEA#32
  | 28 => 0xB3B0A563#32
  | 29 => 0x33B05AA9#32
  | 30 => 0xB3B01DA5#32
  | 31 => 0x33AFEE43#32
  | 32 => 0xB3AFCC75#32
  | 33 => 0x33AFB831#32
  | 34 => 0xB3AFB170#32
  | 35 => 0x33AFB831#32
  | 36 => 0xB3AFCC75#32
  | 37 => 0x33AFEE43#32
  | 38 => 0xB3B01DA5#32
  | 39 => 0x33B05AA9#32
  | 40 => 0xB3B0A563#32
  | 41 => 0x33B0FDEA#32
  | 42 => 0xB3B16459#32
  | 43 => 0x33B1D8CF#32
  | 44 => 0xB3B25B72#32
  | 45 => 0x33B2EC6A#32
  | 46 => 0xB3B38BE5#32
  | 47 => 0x33B43A15#32
  | 48 => 0xB3B4F732#32
  | 49 => 0x33B5C377#32
  | 50 => 0xB3B69F28#32
  | 51 => 0x33B78A8A#32
  | 52 => 0xB3B885EC#32
  | 53 => 0x33B9919E#32
  | 54 => 0xB3BAADFB#32
  | 55 => 0x33BBDB61#32
  | 56 => 0xB3BD1A36#32
  | 57 => 0x33BE6AE7#32
  | 58 => 0xB3BFCDE6#32
  | 59 => 0x33C143B0#32
  | 60 => 0xB3C2CCC7#32
  | 61 => 0x33C469B8#32
  | 62 => 0xB3C61B15#32
  | 63 => 0x33C7E17D#32
  | 64 => 0xB3C9BD97#32
  | 65 => 0x33CBB015#32
  | 66 => 0xB3CDB9B1#32
  | 67 => 0x33CFDB34#32
  | 68 => 0xB3D21572#32
  | 69 => 0x33D4694B#32
  | 70 => 0xB3D6D7AE#32
  | 71 => 0x33D96196#32
  | 72 => 0xB3DC0810#32
  | 73 => 0x33DECC38#32
  | 74 => 0xB3E1AF3D#32
  | 75 => 0x33E4B25D#32
  | 76 => 0xB3E7D6EF#32
  | 77 => 0x33EB1E5A#32
  | 78 => 0xB3EE8A1F#32
  | 79 => 0x33F21BD6#32
  | 80 => 0xB3F5D532#32
  | 81 => 0x33F9B800#32
  | 82 => 0xB3FDC62E#32
  | 83 => 0x340100E3#32
  | 84 => 0xB403367C#32
  | 85 => 0x3405850C#32
  | 86 => 0xB407EDD1#32
  | 87 => 0x340A721F#32
  | 88 => 0xB40D1360#32
  | 89 => 0x340FD31A#32
  | 90 => 0xB412B2ED#32
  | 91 => 0x3415B495#32
  | 92 => 0xB418D9F0#32
  | 93 => 0x341C2500#32
  | 94 => 0xB41F97EA#32
  | 95 => 0x342334FF#32
  | 96 => 0xB426FEBD#32
  | 97 => 0x342AF7D2#32
  | 98 => 0xB42F2322#32
  | 99 => 0x343383CC#32
  | 100 => 0xB4381D32#32
  | 101 => 0x343CF2FA#32
  | 102 => 0xB4420919#32
  | 103 => 0x344763DA#32
  | 104 => 0xB44D07E6#32
  | 105 => 0x3452FA51#32
  | 106 => 0xB45940A1#32
  | 107 => 0x345FE0DA#32
  | 108 => 0xB466E193#32
  | 109 => 0x346E49FF#32
  | 110 => 0xB4762200#32
  | 111 => 0x347E723F#32
  | 112 => 0xB483A221#32
  | 113 => 0x34885143#32
  | 114 => 0xB48D4C4D#32
  | 115 => 0x349299A5#32
  | 116 => 0xB4984061#32
  | 117 => 0x349E485F#32
  | 118 => 0xB4A4BA5F#32
  | 119 => 0x34ABA023#32
  | 120 => 0xB4B30492#32
  | 121 => 0x34BAF3E5#32
  | 122 => 0xB4C37BD6#32
  | 123 => 0x34CCABDA#32
  | 124 => 0xB4D69568#32
  | 125 => 0x34E14C49#32
  | 126 => 0xB4ECE6F7#32
  | 127 => 0x34F97F13#32
  | _ => 0#32

noncomputable abbrev lit0t0_325 (i : Nat) : BitVec 32 := match i % 128 with
  | 0 => 0xB50398F7#32
  | 1 => 0x350B1097#32
  | 2 => 0xB51339CD#32
  | 3 => 0x351C2B08#32
  | 4 => 0xB525FE56#32
  | 5 => 0x3530D21D#32
  | 6 => 0xB53CCA00#32
  | 7 => 0x354A0FF9#32
  | 8 => 0xB558D5BB#32
  | 9 => 0x35695670#32
  | 10 => 0xB57BD8F1#32
  | 11 => 0x3588594C#32
  | 12 => 0xB5942572#32
  | 13 => 0x35A19018#32
  | 14 => 0xB5B0E6EF#32
  | 15 => 0x35C28A3B#32
  | 16 => 0xB5D6F23A#32
  | 17 => 0x35EEB658#32
  | 18 => 0xB6054B76#32
  | 19 => 0x3615C529#32
  | 20 => 0xB6296767#32
  | 21 => 0x3641014B#32
  | 22 => 0xB65DA20C#32
  | 23 => 0x368056F2#32
  | 24 => 0xB695FBC4#32
  | 25 => 0x36B0ED61#32
  | 26 => 0xB6D29E9B#32
  | 27 => 0x36FFBDB2#32
  | 28 => 0xB692EE32#32
  | 29 => 0x391EBB1A#32
  | 30 => 0x3B12D0DF#32
  | 31 => 0x3CA0086D#32
  | 32 => 0x3DBAD58B#32
  | 33 => 0x3E6BB748#32
  | 34 => 0x3EA069FE#32
  | 35 => 0x3E6BB748#32
  | 36 => 0x3DBAD58B#32
  | 37 => 0x3CA0086D#32
  | 38 => 0x3B12D0DF#32
  | 39 => 0x391EBB1A#32
  | 40 => 0xB692EE32#32
  | 41 => 0x36FFBDB2#32
  | 42 => 0xB6D29E9B#32
  | 43 => 0x36B0ED61#32
  | 44 => 0xB695FBC4#32
  | 45 => 0x368056F2#32
  | 46 => 0xB65DA20C#32
  | 47 => 0x3641014B#32
  | 48 => 0xB6296767#32
  | 49 => 0x3615C529#32
  | 50 => 0xB6054B76#32
  | 51 => 0x35EEB658#32
  | 52 => 0xB5D6F23A#32
  | 53 => 0x35C28A3B#32
  | 54 => 0xB5B0E6EF#32
  | 55 => 0x35A19018#32
  | 56 => 0xB5942572#32
  | 57 => 0x3588594C#32
  | 58 => 0xB57BD8F1#32
  | 59 => 0x35695670#32
  | 60 => 0xB558D5BB#32
  | 61 => 0x354A0FF9#32
  | 62 => 0xB53CCA00#32
  | 63 => 0x3530D21D#32
  | 64 => 0xB525FE56#32
  | 65 => 0x351C2B08#32
  | 66 => 0xB51339CD#32
  | 67 => 0x350B1097#32
  | 68 => 0xB50398F7#32
  | 69 => 0x34F97F13#32
  | 70 => 0xB4ECE6F7#32
  | 71 => 0x34E14C49#32
  | 72 => 0xB4D69568#32
  | 73 => 0x34CCABDA#32
  | 74 => 0xB4C37BD6#32
  | 75 => 0x34BAF3E5#32
  | 76 => 0xB4B30492#32
  | 77 => 0x34ABA023#32
  | 78 => 0xB4A4BA5F#32
  | 79 => 0x349E485F#32
  | 80 => 0xB4984061#32
  | 81 => 0x349299A5#32
  | 82 => 0xB48D4C4D#32
  | 83 => 0x34885143#32
  | 84 => 0xB483A221#32
  | 85 => 0x347E723F#32
  | 86 => 0xB4762200#32
  | 87 => 0x346E49FF#32
  | 88 => 0xB466E193#32
  | 89 => 0x345FE0DA#32
  | 90 => 0xB45940A1#32
  | 91 => 0x3452FA51#32
  | 92 => 0xB44D07E6#32
  | 93 => 0x344763DA#32
  | 94 => 0xB4420919#32
  | 95 => 0x343CF2FA#32
  | 96 => 0xB4381D32#32
  | 97 => 0x343383CC#32
  | 98 => 0xB42F2322#32
  | 99 => 0x342AF7D2#32
  | 100 => 0xB426FEBD#32
  | 101 => 0x342334FF#32
  | 102 => 0xB41F97EA#32
  | 103 => 0x341C2500#32
  | 104 => 0xB418D9F0#32
  | 105 => 0x3415B495#32
  | 106 => 0xB412B2ED#32
  | 107 => 0x340FD31A#32
  | 108 => 0xB40D1360#32
  | 109 => 0x340A721F#32
  | 110 => 0xB407EDD1#32
  | 111 => 0x3405850C#32
  | 112 => 0xB403367C#32
  | 113 => 0x340100E3#32
  | 114 => 0xB3FDC62E#32
  | 115 => 0x33F9B800#32
  | 116 => 0xB3F5D532#32
  | 117 => 0x33F21BD6#32
  | 118 => 0xB3EE8A1F#32
  | 119 => 0x33EB1E5A#32
  | 120 => 0xB3E7D6EF#32
  | 121 => 0x33E4B25D#32
  | 122 => 0xB3E1AF3D#32
  | 123 => 0x33DECC38#32
  | 124 => 0xB3DC0810#32
  | 125 => 0x33D96196#32
  | 126 => 0xB3D6D7AE#32
  | 127 => 0x33D4694B#32
  | _ => 0#32

noncomputable abbrev lit0t0_326 (i : Nat) : BitVec 32 := match i % 128 with
  | 0 => 0x33D4694B#32
  | 1 => 0xB3D21572#32
  | 2 => 0x33CFDB34#32
  | 3 => 0xB3CDB9B1#32
  | 4 => 0x33CBB015#32
  | 5 => 0xB3C9BD97#32
  | 6 => 0x33C7E17D#32
  | 7 => 0xB3C61B15#32
  | 8 => 0x33C469B8#32
  | 9 => 0xB3C2CCC7#32
  | 10 => 0x33C143B0#32
  | 11 => 0xB3BFCDE6#32
  | 12 => 0x33BE6AE7#32
  | 13 => 0xB3BD1A36#32
  | 14 => 0x33BBDB61#32
  | 15 => 0xB3BAADFB#32
  | 16 => 0x33B9919E#32
  | 17 => 0xB3B885EC#32
  | 18 => 0x33B78A8A#32
  | 19 => 0xB3B69F28#32
  | 20 => 0x33B5C377#32
  | 21 => 0xB3B4F732#32
  | 22 => 0x33B43A15#32
  | 23 => 0xB3B38BE5#32
  | 24 => 0x33B2EC6A#32
  | 25 => 0xB3B25B72#32
  | 26 => 0x33B1D8CF#32
  | 27 => 0xB3B16459#32
  | 28 => 0x33B0FDEA#32
  | 29 => 0xB3B0A563#32
  | 30 => 0x33B05AA9#32
  | 31 => 0xB3B01DA5#32
  | 32 => 0x33AFEE43#32
  | 33 => 0xB3AFCC75#32
  | 34 => 0x33AFB831#32
  | 35 => 0xB3AFB170#32
  | 36 => 0x33AFB831#32
  | 37 => 0xB3AFCC75#32
  | 38 => 0x33AFEE43#32
  | 39 => 0xB3B01DA5#32
  | 40 => 0x33B05AA9#32
  | 41 => 0xB3B0A563#32
  | 42 => 0x33B0FDEA#32
  | 43 => 0xB3B16459#32
  | 44 => 0x33B1D8CF#32
  | 45 => 0xB3B25B72#32
  | 46 => 0x33B2EC6A#32
  | 47 => 0xB3B38BE5#32
  | 48 => 0x33B43A15#32
  | 49 => 0xB3B4F732#32
  | 50 => 0x33B5C377#32
  | 51 => 0xB3B69F28#32
  | 52 => 0x33B78A8A#32
  | 53 => 0xB3B885EC#32
  | 54 => 0x33B9919E#32
  | 55 => 0xB3BAADFB#32
  | 56 => 0x33BBDB61#32
  | 57 => 0xB3BD1A36#32
  | 58 => 0x33BE6AE7#32
  | 59 => 0xB3BFCDE6#32
  | 60 => 0x33C143B0#32
  | 61 => 0xB3C2CCC7#32
  | 62 => 0x33C469B8#32
  | 63 => 0xB3C61B15#32
  | 64 => 0x33C7E17D#32
  | 65 => 0xB3C9BD97#32
  | 66 => 0x33CBB015#32
  | 67 => 0xB3CDB9B1#32
  | 68 => 0x33CFDB34#32
  | 69 => 0xB3D21572#32
  | 70 => 0x33D4694B#32
  | 71 => 0xB3D6D7AE#32
  | 72 => 0x33D96196#32
  | 73 => 0xB3DC0810#32
  | 74 => 0x33DECC38#32
  | 75 => 0xB3E1AF3D#32
  | 76 => 0x33E4B25D#32
  | 77 => 0xB3E7D6EF#32
  | 78 => 0x33EB1E5A#32
  | 79 => 0xB3EE8A1F#32
  | 80 => 0x33F21BD6#32
  | 81 => 0xB3F5D532#32
  | 82 => 0x33F9B800#32
  | 83 => 0xB3FDC62E#32
  | 84 => 0x340100E3#32
  | 85 => 0xB403367C#32
  | 86 => 0x3405850C#32
  | 87 => 0xB407EDD1#32
  | 88 => 0x340A721F#32
  | 89 => 0xB40D1360#32
  | 90 => 0x340FD31A#32
  | 91 => 0xB412B2ED#32
  | 92 => 0x3415B495#32
  | 93 => 0xB418D9F0#32
  | 94 => 0x341C2500#32
  | 95 => 0xB41F97EA#32
  | 96 => 0x342334FF#32
  | 97 => 0xB426FEBD#32
  | 98 => 0x342AF7D2#32
  | 99 => 0xB42F2322#32
  | 100 => 0x343383CC#32
  | 101 => 0xB4381D32#32
  | 102 => 0x343CF2FA#32
  | 103 => 0xB4420919#32
  | 104 => 0x344763DA#32
  | 105 => 0xB44D07E6#32
  | 106 => 0x3452FA51#32
  | 107 => 0xB45940A1#32
  | 108 => 0x345FE0DA#32
  | 109 => 0xB466E193#32
  | 110 => 0x346E49FF#32
  | 111 => 0xB4762200#32
  | 112 => 0x347E723F#32
  | 113 => 0xB483A221#32
  | 114 => 0x34885143#32
  | 115 => 0xB48D4C4D#32
  | 116 => 0x349299A5#32
  | 117 => 0xB4984061#32
  | 118 => 0x349E485F#32
  | 119 => 0xB4A4BA5F#32
  | 120 => 0x34ABA023#32
  | 121 => 0xB4B30492#32
  | 122 => 0x34BAF3E5#32
  | 123 => 0xB4C37BD6#32
  | 124 => 0x34CCABDA#32
  | 125 => 0xB4D69568#32
  | 126 => 0x34E14C49#32
  | 127 => 0xB4ECE6F7#32
  | _ => 0#32

noncomputable abbrev lit0t0_327 (i : Nat) : BitVec 32 := match i % 128 with
  | 0 => 0x34F97F13#32
  | 1 => 0xB50398F7#32
  | 2 => 0x350B1097#32
  | 3 => 0xB51339CD#32
  | 4 => 0x351C2B08#32
  | 5 => 0xB525FE56#32
  | 6 => 0x3530D21D#32
  | 7 => 0xB53CCA00#32
  | 8 => 0x354A0FF9#32
  | 9 => 0xB558D5BB#32
  | 10 => 0x35695670#32
  | 11 => 0xB57BD8F1#32
  | 12 => 0x3588594C#32
  | 13 => 0xB5942572#32
  | 14 => 0x35A19018#32
  | 15 => 0xB5B0E6EF#32
  | 16 => 0x35C28A3B#32
  | 17 => 0xB5D6F23A#32
  | 18 => 0x35EEB658#32
  | 19 => 0xB6054B76#32
  | 20 => 0x3615C529#32
  | 21 => 0xB6296767#32
  | 22 => 0x3641014B#32
  | 23 => 0xB65DA20C#32
  | 24 => 0x368056F2#32
  | 25 => 0xB695FBC4#32
  | 26 => 0x36B0ED61#32
  | 27 => 0xB6D29E9B#32
  | 28 => 0x36FFBDB2#32
  | 29 => 0xB692EE32#32
  | 30 => 0x391EBB1A#32
  | 31 => 0x3B12D0DF#32
  | 32 => 0x3CA0086D#32
  | 33 => 0x3DBAD58B#32
  | 34 => 0x3E6BB748#32
  | 35 => 0x3EA069FE#32
  | 36 => 0x3E6BB748#32
  | 37 => 0x3DBAD58B#32
  | 38 => 0x3CA0086D#32
  | 39 => 0x3B12D0DF#32
  | 40 => 0x391EBB1A#32
  | 41 => 0xB692EE32#32
  | 42 => 0x36FFBDB2#32
  | 43 => 0xB6D29E9B#32
  | 44 => 0x36B0ED61#32
  | 45 => 0xB695FBC4#32
  | 46 => 0x368056F2#32
  | 47 => 0xB65DA20C#32
  | 48 => 0x3641014B#32
  | 49 => 0xB6296767#32
  | 50 => 0x3615C529#32
  | 51 => 0xB6054B76#32
  | 52 => 0x35EEB658#32
  | 53 => 0xB5D6F23A#32
  | 54 => 0x35C28A3B#32
  | 55 => 0xB5B0E6EF#32
  | 56 => 0x35A19018#32
  | 57 => 0xB5942572#32
  | 58 => 0x3588594C#32
  | 59 => 0xB57BD8F1#32
  | 60 => 0x35695670#32
  | 61 => 0xB558D5BB#32
  | 62 => 0x354A0FF9#32
  | 63 => 0xB53CCA00#32
  | 64 => 0x3530D21D#32
  | 65 => 0xB525FE56#32
  | 66 => 0x351C2B08#32
  | 67 => 0xB51339CD#32
  | 68 => 0x350B1097#32
  | 69 => 0xB50398F7#32
  | 70 => 0x34F97F13#32
  | 71 => 0xB4ECE6F7#32
  | 72 => 0x34E14C49#32
  | 73 => 0xB4D69568#32
  | 74 => 0x34CCABDA#32
  | 75 => 0xB4C37BD6#32
  | 76 => 0x34BAF3E5#32
  | 77 => 0xB4B30492#32
  | 78 => 0x34ABA023#32
  | 79 => 0xB4A4BA5F#32
  | 80 => 0x349E485F#32
  | 81 => 0xB4984061#32
  | 82 => 0x349299A5#32
  | 83 => 0xB48D4C4D#32
  | 84 => 0x34885142#32
  | 85 => 0xB483A221#32
  | 86 => 0x347E723F#32
  | 87 => 0xB4762200#32
  | 88 => 0x346E49FF#32
  | 89 => 0xB466E193#32
  | 90 => 0x345FE0DA#32
  | 91 => 0xB45940A1#32
  | 92 => 0x3452FA51#32
  | 93 => 0xB44D07E6#32
  | 94 => 0x344763DA#32
  | 95 => 0xB4420919#32
  | 96 => 0x343CF2FA#32
  | 97 => 0xB4381D32#32
  | 98 => 0x343383CC#32
  | 99 => 0xB42F2322#32
  | 100 => 0x342AF7D2#32
  | 101 => 0xB426FEBD#32
  | 102 => 0x342334FF#32
  | 103 => 0xB41F97EA#32
  | 104 => 0x341C2500#32
  | 105 => 0xB418D9F0#32
  | 106 => 0x3415B495#32
  | 107 => 0xB412B2ED#32
  | 108 => 0x340FD31A#32
  | 109 => 0xB40D1360#32
  | 110 => 0x340A721F#32
  | 111 => 0xB407EDD1#32
  | 112 => 0x3405850C#32
  | 113 => 0xB403367C#32
  | 114 => 0x340100E3#32
  | 115 => 0xB3FDC62E#32
  | 116 => 0x33F9B800#32
  | 117 => 0xB3F5D532#32
  | 118 => 0x33F21BD6#32
  | 119 => 0xB3EE8A1F#32
  | 120 => 0x33EB1E5A#32
  | 121 => 0xB3E7D6EF#32
  | 122 => 0x33E4B25D#32
  | 123 => 0xB3E1AF3D#32
  | 124 => 0x33DECC38#32
  | 125 => 0xB3DC0810#32
  | 126 => 0x33D96196#32
  | 127 => 0xB3D6D7AE#32
  | _ => 0#32

noncomputable abbrev lit0t0_328 (i : Nat) : BitVec 32 := match i % 128 with
  | 0 => 0xB3D6D7AE#32
  | 1 => 0x33D4694B#32
  | 2 => 0xB3D21572#32
  | 3 => 0x33CFDB34#32
  | 4 => 0xB3CDB9B1#32
  | 5 => 0x33CBB015#32
  | 6 => 0xB3C9BD97#32
  | 7 => 0x33C7E17D#32
  | 8 => 0xB3C61B15#32
  | 9 => 0x33C469B8#32
  | 10 => 0xB3C2CCC7#32
  | 11 => 0x33C143B0#32
  | 12 => 0xB3BFCDE6#32
  | 13 => 0x33BE6AE7#32
  | 14 => 0xB3BD1A36#32
  | 15 => 0x33BBDB61#32
  | 16 => 0xB3BAADFB#32
  | 17 => 0x33B9919E#32
  | 18 => 0xB3B885EC#32
  | 19 => 0x33B78A8A#32
  | 20 => 0xB3B69F28#32
  | 21 => 0x33B5C377#32
  | 22 => 0xB3B4F732#32
  | 23 => 0x33B43A15#32
  | 24 => 0xB3B38BE5#32
  | 25 => 0x33B2EC6A#32
  | 26 => 0xB3B25B72#32
  | 27 => 0x33B1D8CF#32
  | 28 => 0xB3B16459#32
  | 29 => 0x33B0FDEA#32
  | 30 => 0xB3B0A563#32
  | 31 => 0x33B05AA9#32
  | 32 => 0xB3B01DA5#32
  | 33 => 0x33AFEE43#32
  | 34 => 0xB3AFCC75#32
  | 35 => 0x33AFB831#32
  | 36 => 0xB3AFB170#32
  | 37 => 0x33AFB831#32
  | 38 => 0xB3AFCC75#32
  | 39 => 0x33AFEE43#32
  | 40 => 0xB3B01DA5#32
  | 41 => 0x33B05AA9#32
  | 42 => 0xB3B0A563#32
  | 43 => 0x33B0FDEA#32
  | 44 => 0xB3B16459#32
  | 45 => 0x33B1D8CF#32
  | 46 => 0xB3B25B72#32
  | 47 => 0x33B2EC6A#32
  | 48 => 0xB3B38BE5#32
  | 49 => 0x33B43A15#32
  | 50 => 0xB3B4F732#32
  | 51 => 0x33B5C377#32
  | 52 => 0xB3B69F28#32
  | 53 => 0x33B78A8A#32
  | 54 => 0xB3B885EC#32
  | 55 => 0x33B9919E#32
  | 56 => 0xB3BAADFB#32
  | 57 => 0x33BBDB61#32
  | 58 => 0xB3BD1A36#32
  | 59 => 0x33BE6AE7#32
  | 60 => 0xB3BFCDE6#32
  | 61 => 0x33C143B0#32
  | 62 => 0xB3C2CCC7#32
  | 63 => 0x33C469B8#32
  | 64 => 0xB3C61B15#32
  | 65 => 0x33C7E17D#32
  | 66 => 0xB3C9BD97#32
  | 67 => 0x33CBB015#32
  | 68 => 0xB3CDB9B1#32
  | 69 => 0x33CFDB34#32
  | 70 => 0xB3D21572#32
  | 71 => 0x33D4694B#32
  | 72 => 0xB3D6D7AE#32
  | 73 => 0x33D96196#32
  | 74 => 0xB3DC0810#32
  | 75 => 0x33DECC38#32
  | 76 => 0xB3E1AF3D#32
  | 77 => 0x33E4B25D#32
  | 78 => 0xB3E7D6EF#32
  | 79 => 0x33EB1E5A#32
  | 80 => 0xB3EE8A1F#32
  | 81 => 0x33F21BD6#32
  | 82 => 0xB3F5D532#32
  | 83 => 0x33F9B800#32
  | 84 => 0xB3FDC62E#32
  | 85 => 0x340100E3#32
  | 86 => 0xB403367C#32
  | 87 => 0x3405850C#32
  | 88 => 0xB407EDD1#32
  | 89 => 0x340A721F#32
  | 90 => 0xB40D1360#32
  | 91 => 0x340FD31A#32
  | 92 => 0xB412B2ED#32
  | 93 => 0x3415B495#32
  | 94 => 0xB418D9F0#32
  | 95 => 0x341C2500#32
  | 96 => 0xB41F97EA#32
  | 97 => 0x342334FF#32
  | 98 => 0xB426FEBD#32
  | 99 => 0x342AF7D2#32
  | 100 => 0xB42F2322#32
  | 101 => 0x343383CC#32
  | 102 => 0xB4381D32#32
  | 103 => 0x343CF2FA#32
  | 104 => 0xB4420919#32
  | 105 => 0x344763DA#32
  | 106 => 0xB44D07E6#32
  | 107 => 0x3452FA51#32
  | 108 => 0xB45940A1#32
  | 109 => 0x345FE0DA#32
  | 110 => 0xB466E193#32
  | 111 => 0x346E49FF#32
  | 112 => 0xB4762200#32
  | 113 => 0x347E723F#32
  | 114 => 0xB483A221#32
  | 115 => 0x34885142#32
  | 116 => 0xB48D4C4D#32
  | 117 => 0x349299A5#32
  | 118 => 0xB4984061#32
  | 119 => 0x349E485F#32
  | 120 => 0xB4A4BA5F#32
  | 121 => 0x34ABA023#32
  | 122 => 0xB4B30492#32
  | 123 => 0x34BAF3E5#32
  | 124 => 0xB4C37BD6#32
  | 125 => 0x34CCABDA#32
  | 126 => 0xB4D69568#32
  | 127 => 0x34E14C49#32
  | _ => 0#32

noncomputable abbrev lit0t0_329 (i : Nat) : BitVec 32 := match i % 128 with
  | 0 => 0xB4ECE6F7#32
  | 1 => 0x34F97F13#32
  | 2 => 0xB50398F7#32
  | 3 => 0x350B1097#32
  | 4 => 0xB51339CD#32
  | 5 => 0x351C2B08#32
  | 6 => 0xB525FE56#32
  | 7 => 0x3530D21D#32
  | 8 => 0xB53CCA00#32
  | 9 => 0x354A0FF9#32
  | 10 => 0xB558D5BB#32
  | 11 => 0x35695670#32
  | 12 => 0xB57BD8F1#32
  | 13 => 0x3588594C#32
  | 14 => 0xB5942572#32
  | 15 => 0x35A19018#32
  | 16 => 0xB5B0E6EF#32
  | 17 => 0x35C28A3B#32
  | 18 => 0xB5D6F23A#32
  | 19 => 0x35EEB658#32
  | 20 => 0xB6054B76#32
  | 21 => 0x3615C529#32
  | 22 => 0xB6296767#32
  | 23 => 0x3641014B#32
  | 24 => 0xB65DA20C#32
  | 25 => 0x368056F2#32
  | 26 => 0xB695FBC4#32
  | 27 => 0x36B0ED61#32
  | 28 => 0xB6D29E9B#32
  | 29 => 0x36FFBDB2#32
  | 30 => 0xB692EE32#32
  | 31 => 0x391EBB1A#32
  | 32 => 0x3B12D0DF#32
  | 33 => 0x3CA0086D#32
  | 34 => 0x3DBAD58B#32
  | 35 => 0x3E6BB748#32
  | 36 => 0x3EA069FE#32
  | 37 => 0x3E6BB748#32
  | 38 => 0x3DBAD58B#32
  | 39 => 0x3CA0086D#32
  | 40 => 0x3B12D0DF#32
  | 41 => 0x391EBB1A#32
  | 42 => 0xB692EE32#32
  | 43 => 0x36FFBDB2#32
  | 44 => 0xB6D29E9B#32
  | 45 => 0x36B0ED61#32
  | 46 => 0xB695FBC4#32
  | 47 => 0x368056F2#32
  | 48 => 0xB65DA20C#32
  | 49 => 0x3641014B#32
  | 50 => 0xB6296767#32
  | 51 => 0x3615C529#32
  | 52 => 0xB6054B76#32
  | 53 => 0x35EEB658#32
  | 54 => 0xB5D6F23A#32
  | 55 => 0x35C28A3B#32
  | 56 => 0xB5B0E6EF#32
  | 57 => 0x35A19018#32
  | 58 => 0xB5942572#32
  | 59 => 0x3588594C#32
  | 60 => 0xB57BD8F1#32
  | 61 => 0x35695670#32
  | 62 => 0xB558D5BB#32
  | 63 => 0x354A0FF9#32
  | 64 => 0xB53CCA00#32
  | 65 => 0x3530D21D#32
  | 66 => 0xB525FE56#32
  | 67 => 0x351C2B08#32
  | 68 => 0xB51339CD#32
  | 69 => 0x350B1097#32
  | 70 => 0xB50398F7#32
  | 71 => 0x34F97F13#32
  | 72 => 0xB4ECE6F7#32
  | 73 => 0x34E14C49#32
  | 74 => 0xB4D69568#32
  | 75 => 0x34CCABDA#32
  | 76 => 0xB4C37BD6#32
  | 77 => 0x34BAF3E5#32
  | 78 => 0xB4B30492#32
  | 79 => 0x34ABA023#32
  | 80 => 0xB4A4BA5F#32
  | 81 => 0x349E485F#32
  | 82 => 0xB4984061#32
  | 83 => 0x349299A5#32
  | 84 => 0xB48D4C4D#32
  | 85 => 0x34885143#32
  | 86 => 0xB483A221#32
  | 87 => 0x347E723F#32
  | 88 => 0xB4762200#32
  | 89 => 0x346E49FF#32
  | 90 => 0xB466E193#32
  | 91 => 0x345FE0DA#32
  | 92 => 0xB45940A1#32
  | 93 => 0x3452FA51#32
  | 94 => 0xB44D07E6#32
  | 95 => 0x344763DA#32
  | 96 => 0xB4420919#32
  | 97 => 0x343CF2FA#32
  | 98 => 0xB4381D32#32
  | 99 => 0x343383CC#32
  | 100 => 0xB42F2322#32
  | 101 => 0x342AF7D2#32
  | 102 => 0xB426FEBD#32
  | 103 => 0x342334FF#32
  | 104 => 0xB41F97EA#32
  | 105 => 0x341C2500#32
  | 106 => 0xB418D9F0#32
  | 107 => 0x3415B495#32
  | 108 => 0xB412B2ED#32
  | 109 => 0x340FD31A#32
  | 110 => 0xB40D1360#32
  | 111 => 0x340A721F#32
  | 112 => 0xB407EDD1#32
  | 113 => 0x3405850C#32
  | 114 => 0xB403367C#32
  | 115 => 0x340100E3#32
  | 116 => 0xB3FDC62E#32
  | 117 => 0x33F9B800#32
  | 118 => 0xB3F5D532#32
  | 119 => 0x33F21BD6#32
  | 120 => 0xB3EE8A1F#32
  | 121 => 0x33EB1E5A#32
  | 122 => 0xB3E7D6EF#32
  | 123 => 0x33E4B25D#32
  | 124 => 0xB3E1AF3D#32
  | 125 => 0x33DECC38#32
  | 126 => 0xB3DC0810#32
  | 127 => 0x33D96196#32
  | _ => 0#32

noncomputable abbrev lit0t0_330 (i : Nat) : BitVec 32 := match i % 128 with
  | 0 => 0x33D96196#32
  | 1 => 0xB3D6D7AE#32
  | 2 => 0x33D4694B#32
  | 3 => 0xB3D21572#32
  | 4 => 0x33CFDB34#32
  | 5 => 0xB3CDB9B1#32
  | 6 => 0x33CBB015#32
  | 7 => 0xB3C9BD97#32
  | 8 => 0x33C7E17D#32
  | 9 => 0xB3C61B15#32
  | 10 => 0x33C469B8#32
  | 11 => 0xB3C2CCC7#32
  | 12 => 0x33C143B0#32
  | 13 => 0xB3BFCDE6#32
  | 14 => 0x33BE6AE7#32
  | 15 => 0xB3BD1A36#32
  | 16 => 0x33BBDB61#32
  | 17 => 0xB3BAADFB#32
  | 18 => 0x33B9919E#32
  | 19 => 0xB3B885EC#32
  | 20 => 0x33B78A8A#32
  | 21 => 0xB3B69F28#32
  | 22 => 0x33B5C377#32
  | 23 => 0xB3B4F732#32
  | 24 => 0x33B43A15#32
  | 25 => 0xB3B38BE5#32
  | 26 => 0x33B2EC6A#32
  | 27 => 0xB3B25B72#32
  | 28 => 0x33B1D8CF#32
  | 29 => 0xB3B16459#32
  | 30 => 0x33B0FDEA#32
  | 31 => 0xB3B0A563#32
  | 32 => 0x33B05AA9#32
  | 33 => 0xB3B01DA5#32
  | 34 => 0x33AFEE43#32
  | 35 => 0xB3AFCC75#32
  | 36 => 0x33AFB831#32
  | 37 => 0xB3AFB170#32
  | 38 => 0x33AFB831#32
  | 39 => 0xB3AFCC75#32
  | 40 => 0x33AFEE43#32
  | 41 => 0xB3B01DA5#32
  | 42 => 0x33B05AA9#32
  | 43 => 0xB3B0A563#32
  | 44 => 0x33B0FDEA#32
  | 45 => 0xB3B16459#32
  | 46 => 0x33B1D8CF#32
  | 47 => 0xB3B25B72#32
  | 48 => 0x33B2EC6A#32
  | 49 => 0xB3B38BE5#32
  | 50 => 0x33B43A15#32
  | 51 => 0xB3B4F732#32
  | 52 => 0x33B5C377#32
  | 53 => 0xB3B69F28#32
  | 54 => 0x33B78A8A#32
  | 55 => 0xB3B885EC#32
  | 56 => 0x33B9919E#32
  | 57 => 0xB3BAADFB#32
  | 58 => 0x33BBDB61#32
  | 59 => 0xB3BD1A36#32
  | 60 => 0x33BE6AE7#32
  | 61 => 0xB3BFCDE6#32
  | 62 => 0x33C143B0#32
  | 63 => 0xB3C2CCC7#32
  | 64 => 0x33C469B8#32
  | 65 => 0xB3C61B15#32
  | 66 => 0x33C7E17D#32
  | 67 => 0xB3C9BD97#32
  | 68 => 0x33CBB015#32
  | 69 => 0xB3CDB9B1#32
  | 70 => 0x33CFDB34#32
  | 71 => 0xB3D21572#32
  | 72 => 0x33D4694B#32
  | 73 => 0xB3D6D7AE#32
  | 74 => 0x33D96196#32
  | 75 => 0xB3DC0810#32
  | 76 => 0x33DECC38#32
  | 77 => 0xB3E1AF3D#32
  | 78 => 0x33E4B25D#32
  | 79 => 0xB3E7D6EF#32
  | 80 => 0x33EB1E5A#32
  | 81 => 0xB3EE8A1F#32
  | 82 => 0x33F21BD6#32
  | 83 => 0xB3F5D532#32
  | 84 => 0x33F9B800#32
  | 85 => 0xB3FDC62E#32
  | 86 => 0x340100E3#32
  | 87 => 0xB403367C#32
  | 88 => 0x3405850C#32
  | 89 => 0xB407EDD1#32
  | 90 => 0x340A721F#32
  | 91 => 0xB40D1360#32
  | 92 => 0x340FD31A#32
  | 93 => 0xB412B2ED#32
  | 94 => 0x3415B495#32
  | 95 => 0xB418D9F0#32
  | 96 => 0x341C2500#32
  | 97 => 0xB41F97EA#32
  | 98 => 0x342334FF#32
  | 99 => 0xB426FEBD#32
  | 100 => 0x342AF7D2#32
  | 101 => 0xB42F2322#32
  | 102 => 0x343383CC#32
  | 103 => 0xB4381D32#32
  | 104 => 0x343CF2FA#32
  | 105 => 0xB4420919#32
  | 106 => 0x344763DA#32
  | 107 => 0xB44D07E6#32
  | 108 => 0x3452FA51#32
  | 109 => 0xB45940A1#32
  | 110 => 0x345FE0DA#32
  | 111 => 0xB466E193#32
  | 112 => 0x346E49FF#32
  | 113 => 0xB4762200#32
  | 114 => 0x347E723F#32
  | 115 => 0xB483A221#32
  | 116 => 0x34885142#32
  | 117 => 0xB48D4C4D#32
  | 118 => 0x349299A5#32
  | 119 => 0xB4984061#32
  | 120 => 0x349E485F#32
  | 121 => 0xB4A4BA5F#32
  | 122 => 0x34ABA023#32
  | 123 => 0xB4B30492#32
  | 124 => 0x34BAF3E5#32
  | 125 => 0xB4C37BD6#32
  | 126 => 0x34CCABDA#32
  | 127 => 0xB4D69568#32
  | _ => 0#32

noncomputable abbrev lit0t0_331 (i : Nat) : BitVec 32 := match i % 128 with
  | 0 => 0x34E14C49#32
  | 1 => 0xB4ECE6F7#32
  | 2 => 0x34F97F13#32
  | 3 => 0xB50398F7#32
  | 4 => 0x350B1097#32
  | 5 => 0xB51339CD#32
  | 6 => 0x351C2B08#32
  | 7 => 0xB525FE56#32
  | 8 => 0x3530D21D#32
  | 9 => 0xB53CCA00#32
  | 10 => 0x354A0FF9#32
  | 11 => 0xB558D5BB#32
  | 12 => 0x35695670#32
  | 13 => 0xB57BD8F1#32
  | 14 => 0x3588594C#32
  | 15 => 0xB5942572#32
  | 16 => 0x35A19018#32
  | 17 => 0xB5B0E6EF#32
  | 18 => 0x35C28A3B#32
  | 19 => 0xB5D6F23A#32
  | 20 => 0x35EEB658#32
  | 21 => 0xB6054B76#32
  | 22 => 0x3615C529#32
  | 23 => 0xB6296767#32
  | 24 => 0x3641014B#32
  | 25 => 0xB65DA20C#32
  | 26 => 0x368056F2#32
  | 27 => 0xB695FBC4#32
  | 28 => 0x36B0ED61#32
  | 29 => 0xB6D29E9B#32
  | 30 => 0x36FFBDB2#32
  | 31 => 0xB692EE32#32
  | 32 => 0x391EBB1A#32
  | 33 => 0x3B12D0DF#32
  | 34 => 0x3CA0086D#32
  | 35 => 0x3DBAD58B#32
  | 36 => 0x3E6BB748#32
  | 37 => 0x3EA069FE#32
  | 38 => 0x3E6BB748#32
  | 39 => 0x3DBAD58B#32
  | 40 => 0x3CA0086D#32
  | 41 => 0x3B12D0DF#32
  | 42 => 0x391EBB1A#32
  | 43 => 0xB692EE32#32
  | 44 => 0x36FFBDB2#32
  | 45 => 0xB6D29E9B#32
  | 46 => 0x36B0ED61#32
  | 47 => 0xB695FBC4#32
  | 48 => 0x368056F2#32
  | 49 => 0xB65DA20C#32
  | 50 => 0x3641014B#32
  | 51 => 0xB6296767#32
  | 52 => 0x3615C529#32
  | 53 => 0xB6054B76#32
  | 54 => 0x35EEB658#32
  | 55 => 0xB5D6F23A#32
  | 56 => 0x35C28A3B#32
  | 57 => 0xB5B0E6EF#32
  | 58 => 0x35A19018#32
  | 59 => 0xB5942572#32
  | 60 => 0x3588594C#32
  | 61 => 0xB57BD8F1#32
  | 62 => 0x35695670#32
  | 63 => 0xB558D5BB#32
  | 64 => 0x354A0FF9#32
  | 65 => 0xB53CCA00#32
  | 66 => 0x3530D21D#32
  | 67 => 0xB525FE56#32
  | 68 => 0x351C2B08#32
  | 69 => 0xB51339CD#32
  | 70 => 0x350B1097#32
  | 71 => 0xB50398F7#32
  | 72 => 0x34F97F13#32
  | 73 => 0xB4ECE6F7#32
  | 74 => 0x34E14C49#32
  | 75 => 0xB4D69568#32
  | 76 => 0x34CCABDA#32
  | 77 => 0xB4C37BD6#32
  | 78 => 0x34BAF3E5#32
  | 79 => 0xB4B30492#32
  | 80 => 0x34ABA023#32
  | 81 => 0xB4A4BA5F#32
  | 82 => 0x349E485F#32
  | 83 => 0xB4984061#32
  | 84 => 0x349299A5#32
  | 85 => 0xB48D4C4D#32
  | 86 => 0x34885143#32
  | 87 => 0xB483A221#32
  | 88 => 0x347E723F#32
  | 89 => 0xB4762200#32
  | 90 => 0x346E49FF#32
  | 91 => 0xB466E193#32
  | 92 => 0x345FE0DA#32
  | 93 => 0xB45940A1#32
  | 94 => 0x3452FA51#32
  | 95 => 0xB44D07E6#32
  | 96 => 0x344763DA#32
  | 97 => 0xB4420919#32
  | 98 => 0x343CF2FA#32
  | 99 => 0xB4381D32#32
  | 100 => 0x343383CC#32
  | 101 => 0xB42F2322#32
  | 102 => 0x342AF7D2#32
  | 103 => 0xB426FEBD#32
  | 104 => 0x342334FF#32
  | 105 => 0xB41F97EA#32
  | 106 => 0x341C2500#32
  | 107 => 0xB418D9F0#32
  | 108 => 0x3415B495#32
  | 109 => 0xB412B2ED#32
  | 110 => 0x340FD31A#32
  | 111 => 0xB40D1360#32
  | 112 => 0x340A721F#32
  | 113 => 0xB407EDD1#32
  | 114 => 0x3405850C#32
  | 115 => 0xB403367C#32
  | 116 => 0x340100E3#32
  | 117 => 0xB3FDC62E#32
  | 118 => 0x33F9B800#32
  | 119 => 0xB3F5D532#32
  | 120 => 0x33F21BD6#32
  | 121 => 0xB3EE8A1F#32
  | 122 => 0x33EB1E5A#32
  | 123 => 0xB3E7D6EF#32
  | 124 => 0x33E4B25D#32
  | 125 => 0xB3E1AF3D#32
  | 126 => 0x33DECC38#32
  | 127 => 0xB3DC0810#32
  | _ => 0#32

noncomputable abbrev lit0t0_332 (i : Nat) : BitVec 32 := match i % 128 with
  | 0 => 0xB3DC0810#32
  | 1 => 0x33D96196#32
  | 2 => 0xB3D6D7AE#32
  | 3 => 0x33D4694B#32
  | 4 => 0xB3D21572#32
  | 5 => 0x33CFDB34#32
  | 6 => 0xB3CDB9B1#32
  | 7 => 0x33CBB015#32
  | 8 => 0xB3C9BD97#32
  | 9 => 0x33C7E17D#32
  | 10 => 0xB3C61B15#32
  | 11 => 0x33C469B8#32
  | 12 => 0xB3C2CCC7#32
  | 13 => 0x33C143B0#32
  | 14 => 0xB3BFCDE6#32
  | 15 => 0x33BE6AE7#32
  | 16 => 0xB3BD1A36#32
  | 17 => 0x33BBDB61#32
  | 18 => 0xB3BAADFB#32
  | 19 => 0x33B9919E#32
  | 20 => 0xB3B885EC#32
  | 21 => 0x33B78A8A#32
  | 22 => 0xB3B69F28#32
  | 23 => 0x33B5C377#32
  | 24 => 0xB3B4F732#32
  | 25 => 0x33B43A15#32
  | 26 => 0xB3B38BE5#32
  | 27 => 0x33B2EC6A#32
  | 28 => 0xB3B25B72#32
  | 29 => 0x33B1D8CF#32
  | 30 => 0xB3B16459#32
  | 31 => 0x33B0FDEA#32
  | 32 => 0xB3B0A563#32
  | 33 => 0x33B05AA9#32
  | 34 => 0xB3B01DA5#32
  | 35 => 0x33AFEE43#32
  | 36 => 0xB3AFCC75#32
  | 37 => 0x33AFB831#32
  | 38 => 0xB3AFB170#32
  | 39 => 0x33AFB831#32
  | 40 => 0xB3AFCC75#32
  | 41 => 0x33AFEE43#32
  | 42 => 0xB3B01DA5#32
  | 43 => 0x33B05AA9#32
  | 44 => 0xB3B0A563#32
  | 45 => 0x33B0FDEA#32
  | 46 => 0xB3B16459#32
  | 47 => 0x33B1D8CF#32
  | 48 => 0xB3B25B72#32
  | 49 => 0x33B2EC6A#32
  | 50 => 0xB3B38BE5#32
  | 51 => 0x33B43A15#32
  | 52 => 0xB3B4F732#32
  | 53 => 0x33B5C377#32
  | 54 => 0xB3B69F28#32
  | 55 => 0x33B78A8A#32
  | 56 => 0xB3B885EC#32
  | 57 => 0x33B9919E#32
  | 58 => 0xB3BAADFB#32
  | 59 => 0x33BBDB61#32
  | 60 => 0xB3BD1A36#32
  | 61 => 0x33BE6AE7#32
  | 62 => 0xB3BFCDE6#32
  | 63 => 0x33C143B0#32
  | 64 => 0xB3C2CCC7#32
  | 65 => 0x33C469B8#32
  | 66 => 0xB3C61B15#32
  | 67 => 0x33C7E17D#32
  | 68 => 0xB3C9BD97#32
  | 69 => 0x33CBB015#32
  | 70 => 0xB3CDB9B1#32
  | 71 => 0x33CFDB34#32
  | 72 => 0xB3D21572#32
  | 73 => 0x33D4694B#32
  | 74 => 0xB3D6D7AE#32
  | 75 => 0x33D96196#32
  | 76 => 0xB3DC0810#32
  | 77 => 0x33DECC38#32
  | 78 => 0xB3E1AF3D#32
  | 79 => 0x33E4B25D#32
  | 80 => 0xB3E7D6EF#32
  | 81 => 0x33EB1E5A#32
  | 82 => 0xB3EE8A1F#32
  | 83 => 0x33F21BD6#32
  | 84 => 0xB3F5D532#32
  | 85 => 0x33F9B800#32
  | 86 => 0xB3FDC62E#32
  | 87 => 0x340100E3#32
  | 88 => 0xB403367C#32
  | 89 => 0x3405850C#32
  | 90 => 0xB407EDD1#32
  | 91 => 0x340A721F#32
  | 92 => 0xB40D1360#32
  | 93 => 0x340FD31A#32
  | 94 => 0xB412B2ED#32
  | 95 => 0x3415B495#32
  | 96 => 0xB418D9F0#32
  | 97 => 0x341C2500#32
  | 98 => 0xB41F97EA#32
  | 99 => 0x342334FF#32
  | 100 => 0xB426FEBD#32
  | 101 => 0x342AF7D2#32
  | 102 => 0xB42F2322#32
  | 103 => 0x343383CC#32
  | 104 => 0xB4381D32#32
  | 105 => 0x343CF2FA#32
  | 106 => 0xB4420919#32
  | 107 => 0x344763DA#32
  | 108 => 0xB44D07E6#32
  | 109 => 0x3452FA51#32
  | 110 => 0xB45940A1#32
  | 111 => 0x345FE0DA#32
  | 112 => 0xB466E193#32
  | 113 => 0x346E49FF#32
  | 114 => 0xB4762200#32
  | 115 => 0x347E723F#32
  | 116 => 0xB483A221#32
  | 117 => 0x34885142#32
  | 118 => 0xB48D4C4D#32
  | 119 => 0x349299A5#32
  | 120 => 0xB4984061#32
  | 121 => 0x349E485F#32
  | 122 => 0xB4A4BA5F#32
  | 123 => 0x34ABA023#32
  | 124 => 0xB4B30492#32
  | 125 => 0x34BAF3E5#32
  | 126 => 0xB4C37BD6#32
  | 127 => 0x34CCABDA#32
  | _ => 0#32

noncomputable abbrev lit0t0_333 (i : Nat) : BitVec 32 := match i % 128 with
  | 0 => 0xB4D69568#32
  | 1 => 0x34E14C49#32
  | 2 => 0xB4ECE6F7#32
  | 3 => 0x34F97F13#32
  | 4 => 0xB50398F7#32
  | 5 => 0x350B1097#32
  | 6 => 0xB51339CD#32
  | 7 => 0x351C2B08#32
  | 8 => 0xB525FE56#32
  | 9 => 0x3530D21D#32
  | 10 => 0xB53CCA00#32
  | 11 => 0x354A0FF9#32
  | 12 => 0xB558D5BB#32
  | 13 => 0x35695670#32
  | 14 => 0xB57BD8F1#32
  | 15 => 0x3588594C#32
  | 16 => 0xB5942572#32
  | 17 => 0x35A19018#32
  | 18 => 0xB5B0E6EF#32
  | 19 => 0x35C28A3B#32
  | 20 => 0xB5D6F23A#32
  | 21 => 0x35EEB658#32
  | 22 => 0xB6054B76#32
  | 23 => 0x3615C529#32
  | 24 => 0xB6296767#32
  | 25 => 0x3641014B#32
  | 26 => 0xB65DA20C#32
  | 27 => 0x368056F2#32
  | 28 => 0xB695FBC4#32
  | 29 => 0x36B0ED61#32
  | 30 => 0xB6D29E9B#32
  | 31 => 0x36FFBDB2#32
  | 32 => 0xB692EE32#32
  | 33 => 0x391EBB1A#32
  | 34 => 0x3B12D0DF#32
  | 35 => 0x3CA0086D#32
  | 36 => 0x3DBAD58B#32
  | 37 => 0x3E6BB748#32
  | 38 => 0x3EA069FE#32
  | 39 => 0x3E6BB748#32
  | 40 => 0x3DBAD58B#32
  | 41 => 0x3CA0086D#32
  | 42 => 0x3B12D0DF#32
  | 43 => 0x391EBB1A#32
  | 44 => 0xB692EE32#32
  | 45 => 0x36FFBDB2#32
  | 46 => 0xB6D29E9B#32
  | 47 => 0x36B0ED61#32
  | 48 => 0xB695FBC4#32
  | 49 => 0x368056F2#32
  | 50 => 0xB65DA20C#32
  | 51 => 0x3641014B#32
  | 52 => 0xB6296767#32
  | 53 => 0x3615C529#32
  | 54 => 0xB6054B76#32
  | 55 => 0x35EEB658#32
  | 56 => 0xB5D6F23A#32
  | 57 => 0x35C28A3B#32
  | 58 => 0xB5B0E6EF#32
  | 59 => 0x35A19018#32
  | 60 => 0xB5942572#32
  | 61 => 0x3588594C#32
  | 62 => 0xB57BD8F1#32
  | 63 => 0x35695670#32
  | 64 => 0xB558D5BB#32
  | 65 => 0x354A0FF9#32
  | 66 => 0xB53CCA00#32
  | 67 => 0x3530D21D#32
  | 68 => 0xB525FE56#32
  | 69 => 0x351C2B08#32
  | 70 => 0xB51339CD#32
  | 71 => 0x350B1097#32
  | 72 => 0xB50398F7#32
  | 73 => 0x34F97F13#32
  | 74 => 0xB4ECE6F7#32
  | 75 => 0x34E14C49#32
  | 76 => 0xB4D69568#32
  | 77 => 0x34CCABDA#32
  | 78 => 0xB4C37BD6#32
  | 79 => 0x34BAF3E5#32
  | 80 => 0xB4B30492#32
  | 81 => 0x34ABA023#32
  | 82 => 0xB4A4BA5F#32
  | 83 => 0x349E485F#32
  | 84 => 0xB4984061#32
  | 85 => 0x349299A5#32
  | 86 => 0xB48D4C4D#32
  | 87 => 0x34885143#32
  | 88 => 0xB483A221#32
  | 89 => 0x347E723F#32
  | 90 => 0xB4762200#32
  | 91 => 0x346E49FF#32
  | 92 => 0xB466E193#32
  | 93 => 0x345FE0DA#32
  | 94 => 0xB45940A1#32
  | 95 => 0x3452FA51#32
  | 96 => 0xB44D07E6#32
  | 97 => 0x344763DA#32
  | 98 => 0xB4420919#32
  | 99 => 0x343CF2FA#32
  | 100 => 0xB4381D32#32
  | 101 => 0x343383CC#32
  | 102 => 0xB42F2322#32
  | 103 => 0x342AF7D2#32
  | 104 => 0xB426FEBD#32
  | 105 => 0x342334FF#32
  | 106 => 0xB41F97EA#32
  | 107 => 0x341C2500#32
  | 108 => 0xB418D9F0#32
  | 109 => 0x3415B495#32
  | 110 => 0xB412B2ED#32
  | 111 => 0x340FD31A#32
  | 112 => 0xB40D1360#32
  | 113 => 0x340A721F#32
  | 114 => 0xB407EDD1#32
  | 115 => 0x3405850C#32
  | 116 => 0xB403367C#32
  | 117 => 0x340100E3#32
  | 118 => 0xB3FDC62E#32
  | 119 => 0x33F9B800#32
  | 120 => 0xB3F5D532#32
  | 121 => 0x33F21BD6#32
  | 122 => 0xB3EE8A1F#32
  | 123 => 0x33EB1E5A#32
  | 124 => 0xB3E7D6EF#32
  | 125 => 0x33E4B25D#32
  | 126 => 0xB3E1AF3D#32
  | 127 => 0x33DECC38#32
  | _ => 0#32

noncomputable abbrev lit0t0_334 (i : Nat) : BitVec 32 := match i % 128 with
  | 0 => 0x33DECC38#32
  | 1 => 0xB3DC0810#32
  | 2 => 0x33D96196#32
  | 3 => 0xB3D6D7AE#32
  | 4 => 0x33D4694B#32
  | 5 => 0xB3D21572#32
  | 6 => 0x33CFDB34#32
  | 7 => 0xB3CDB9B1#32
  | 8 => 0x33CBB015#32
  | 9 => 0xB3C9BD97#32
  | 10 => 0x33C7E17D#32
  | 11 => 0xB3C61B15#32
  | 12 => 0x33C469B8#32
  | 13 => 0xB3C2CCC7#32
  | 14 => 0x33C143B0#32
  | 15 => 0xB3BFCDE6#32
  | 16 => 0x33BE6AE7#32
  | 17 => 0xB3BD1A36#32
  | 18 => 0x33BBDB61#32
  | 19 => 0xB3BAADFB#32
  | 20 => 0x33B9919E#32
  | 21 => 0xB3B885EC#32
  | 22 => 0x33B78A8A#32
  | 23 => 0xB3B69F28#32
  | 24 => 0x33B5C377#32
  | 25 => 0xB3B4F732#32
  | 26 => 0x33B43A15#32
  | 27 => 0xB3B38BE5#32
  | 28 => 0x33B2EC6A#32
  | 29 => 0xB3B25B72#32
  | 30 => 0x33B1D8CF#32
  | 31 => 0xB3B16459#32
  | 32 => 0x33B0FDEA#32
  | 33 => 0xB3B0A563#32
  | 34 => 0x33B05AA9#32
  | 35 => 0xB3B01DA5#32
  | 36 => 0x33AFEE43#32
  | 37 => 0xB3AFCC75#32
  | 38 => 0x33AFB831#32
  | 39 => 0xB3AFB170#32
  | 40 => 0x33AFB831#32
  | 41 => 0xB3AFCC75#32
  | 42 => 0x33AFEE43#32
  | 43 => 0xB3B01DA5#32
  | 44 => 0x33B05AA9#32
  | 45 => 0xB3B0A563#32
  | 46 => 0x33B0FDEA#32
  | 47 => 0xB3B16459#32
  | 48 => 0x33B1D8CF#32
  | 49 => 0xB3B25B72#32
  | 50 => 0x33B2EC6A#32
  | 51 => 0xB3B38BE5#32
  | 52 => 0x33B43A15#32
  | 53 => 0xB3B4F732#32
  | 54 => 0x33B5C377#32
  | 55 => 0xB3B69F28#32
  | 56 => 0x33B78A8A#32
  | 57 => 0xB3B885EC#32
  | 58 => 0x33B9919E#32
  | 59 => 0xB3BAADFB#32
  | 60 => 0x33BBDB61#32
  | 61 => 0xB3BD1A36#32
  | 62 => 0x33BE6AE7#32
  | 63 => 0xB3BFCDE6#32
  | 64 => 0x33C143B0#32
  | 65 => 0xB3C2CCC7#32
  | 66 => 0x33C469B8#32
  | 67 => 0xB3C61B15#32
  | 68 => 0x33C7E17D#32
  | 69 => 0xB3C9BD97#32
  | 70 => 0x33CBB015#32
  | 71 => 0xB3CDB9B1#32
  | 72 => 0x33CFDB34#32
  | 73 => 0xB3D21572#32
  | 74 => 0x33D4694B#32
  | 75 => 0xB3D6D7AE#32
  | 76 => 0x33D96196#32
  | 77 => 0xB3DC0810#32
  | 78 => 0x33DECC38#32
  | 79 => 0xB3E1AF3D#32
  | 80 => 0x33E4B25D#32
  | 81 => 0xB3E7D6EF#32
  | 82 => 0x33EB1E5A#32
  | 83 => 0xB3EE8A1F#32
  | 84 => 0x33F21BD6#32
  | 85 => 0xB3F5D532#32
  | 86 => 0x33F9B800#32
  | 87 => 0xB3FDC62E#32
  | 88 => 0x340100E3#32
  | 89 => 0xB403367C#32
  | 90 => 0x3405850C#32
  | 91 => 0xB407EDD1#32
  | 92 => 0x340A721F#32
  | 93 => 0xB40D1360#32
  | 94 => 0x340FD31A#32
  | 95 => 0xB412B2ED#32
  | 96 => 0x3415B495#32
  | 97 => 0xB418D9F0#32
  | 98 => 0x341C2500#32
  | 99 => 0xB41F97EA#32
  | 100 => 0x342334FF#32
  | 101 => 0xB426FEBD#32
  | 102 => 0x342AF7D2#32
  | 103 => 0xB42F2322#32
  | 104 => 0x343383CC#32
  | 105 => 0xB4381D32#32
  | 106 => 0x343CF2FA#32
  | 107 => 0xB4420919#32
  | 108 => 0x344763DA#32
  | 109 => 0xB44D07E6#32
  | 110 => 0x3452FA51#32
  | 111 => 0xB45940A1#32
  | 112 => 0x345FE0DA#32
  | 113 => 0xB466E193#32
  | 114 => 0x346E49FF#32
  | 115 => 0xB4762200#32
  | 116 => 0x347E723F#32
  | 117 => 0xB483A221#32
  | 118 => 0x34885142#32
  | 119 => 0xB48D4C4D#32
  | 120 => 0x349299A5#32
  | 121 => 0xB4984061#32
  | 122 => 0x349E485F#32
  | 123 => 0xB4A4BA5F#32
  | 124 => 0x34ABA023#32
  | 125 => 0xB4B30492#32
  | 126 => 0x34BAF3E5#32
  | 127 => 0xB4C37BD6#32
  | _ => 0#32

noncomputable abbrev lit0t0_335 (i : Nat) : BitVec 32 := match i % 128 with
  | 0 => 0x34CCABDA#32
  | 1 => 0xB4D69568#32
  | 2 => 0x34E14C49#32
  | 3 => 0xB4ECE6F7#32
  | 4 => 0x34F97F13#32
  | 5 => 0xB50398F7#32
  | 6 => 0x350B1097#32
  | 7 => 0xB51339CD#32
  | 8 => 0x351C2B08#32
  | 9 => 0xB525FE56#32
  | 10 => 0x3530D21D#32
  | 11 => 0xB53CCA00#32
  | 12 => 0x354A0FF9#32
  | 13 => 0xB558D5BB#32
  | 14 => 0x35695670#32
  | 15 => 0xB57BD8F1#32
  | 16 => 0x3588594C#32
  | 17 => 0xB5942572#32
  | 18 => 0x35A19018#32
  | 19 => 0xB5B0E6EF#32
  | 20 => 0x35C28A3B#32
  | 21 => 0xB5D6F23A#32
  | 22 => 0x35EEB658#32
  | 23 => 0xB6054B76#32
  | 24 => 0x3615C529#32
  | 25 => 0xB6296767#32
  | 26 => 0x3641014B#32
  | 27 => 0xB65DA20C#32
  | 28 => 0x368056F2#32
  | 29 => 0xB695FBC4#32
  | 30 => 0x36B0ED61#32
  | 31 => 0xB6D29E9B#32
  | 32 => 0x36FFBDB2#32
  | 33 => 0xB692EE32#32
  | 34 => 0x391EBB1A#32
  | 35 => 0x3B12D0DF#32
  | 36 => 0x3CA0086D#32
  | 37 => 0x3DBAD58B#32
  | 38 => 0x3E6BB748#32
  | 39 => 0x3EA069FE#32
  | 40 => 0x3E6BB748#32
  | 41 => 0x3DBAD58B#32
  | 42 => 0x3CA0086D#32
  | 43 => 0x3B12D0DF#32
  | 44 => 0x391EBB1A#32
  | 45 => 0xB692EE32#32
  | 46 => 0x36FFBDB2#32
  | 47 => 0xB6D29E9B#32
  | 48 => 0x36B0ED61#32
  | 49 => 0xB695FBC4#32
  | 50 => 0x368056F2#32
  | 51 => 0xB65DA20C#32
  | 52 => 0x3641014B#32
  | 53 => 0xB6296767#32
  | 54 => 0x3615C529#32
  | 55 => 0xB6054B76#32
  | 56 => 0x35EEB658#32
  | 57 => 0xB5D6F23A#32
  | 58 => 0x35C28A3B#32
  | 59 => 0xB5B0E6EF#32
  | 60 => 0x35A19018#32
  | 61 => 0xB5942572#32
  | 62 => 0x3588594C#32
  | 63 => 0xB57BD8F1#32
  | 64 => 0x35695670#32
  | 65 => 0xB558D5BB#32
  | 66 => 0x354A0FF9#32
  | 67 => 0xB53CCA00#32
  | 68 => 0x3530D21D#32
  | 69 => 0xB525FE56#32
  | 70 => 0x351C2B08#32
  | 71 => 0xB51339CD#32
  | 72 => 0x350B1097#32
  | 73 => 0xB50398F7#32
  | 74 => 0x34F97F13#32
  | 75 => 0xB4ECE6F7#32
  | 76 => 0x34E14C49#32
  | 77 => 0xB4D69568#32
  | 78 => 0x34CCABDA#32
  | 79 => 0xB4C37BD6#32
  | 80 => 0x34BAF3E5#32
  | 81 => 0xB4B30492#32
  | 82 => 0x34ABA023#32
  | 83 => 0xB4A4BA5F#32
  | 84 => 0x349E485F#32
  | 85 => 0xB4984061#32
  | 86 => 0x349299A5#32
  | 87 => 0xB48D4C4D#32
  | 88 => 0x34885143#32
  | 89 => 0xB483A221#32
  | 90 => 0x347E723F#32
  | 91 => 0xB4762200#32
  | 92 => 0x346E49FF#32
  | 93 => 0xB466E193#32
  | 94 => 0x345FE0DA#32
  | 95 => 0xB45940A1#32
  | 96 => 0x3452FA51#32
  | 97 => 0xB44D07E6#32
  | 98 => 0x344763DA#32
  | 99 => 0xB4420919#32
  | 100 => 0x343CF2FA#32
  | 101 => 0xB4381D32#32
  | 102 => 0x343383CC#32
  | 103 => 0xB42F2322#32
  | 104 => 0x342AF7D2#32
  | 105 => 0xB426FEBD#32
  | 106 => 0x342334FF#32
  | 107 => 0xB41F97EA#32
  | 108 => 0x341C2500#32
  | 109 => 0xB418D9F0#32
  | 110 => 0x3415B495#32
  | 111 => 0xB412B2ED#32
  | 112 => 0x340FD31A#32
  | 113 => 0xB40D1360#32
  | 114 => 0x340A721F#32
  | 115 => 0xB407EDD1#32
  | 116 => 0x3405850C#32
  | 117 => 0xB403367C#32
  | 118 => 0x340100E3#32
  | 119 => 0xB3FDC62E#32
  | 120 => 0x33F9B800#32
  | 121 => 0xB3F5D532#32
  | 122 => 0x33F21BD6#32
  | 123 => 0xB3EE8A1F#32
  | 124 => 0x33EB1E5A#32
  | 125 => 0xB3E7D6EF#32
  | 126 => 0x33E4B25D#32
  | 127 => 0xB3E1AF3D#32
  | _ => 0#32

noncomputable abbrev lit0t0_336 (i : Nat) : BitVec 32 := match i % 128 with
  | 0 => 0xB3E1AF3D#32
  | 1 => 0x33DECC38#32
  | 2 => 0xB3DC0810#32
  | 3 => 0x33D96196#32
  | 4 => 0xB3D6D7AE#32
  | 5 => 0x33D4694B#32
  | 6 => 0xB3D21572#32
  | 7 => 0x33CFDB34#32
  | 8 => 0xB3CDB9B1#32
  | 9 => 0x33CBB015#32
  | 10 => 0xB3C9BD97#32
  | 11 => 0x33C7E17D#32
  | 12 => 0xB3C61B15#32
  | 13 => 0x33C469B8#32
  | 14 => 0xB3C2CCC7#32
  | 15 => 0x33C143B0#32
  | 16 => 0xB3BFCDE6#32
  | 17 => 0x33BE6AE7#32
  | 18 => 0xB3BD1A36#32
  | 19 => 0x33BBDB61#32
  | 20 => 0xB3BAADFB#32
  | 21 => 0x33B9919E#32
  | 22 => 0xB3B885EC#32
  | 23 => 0x33B78A8A#32
  | 24 => 0xB3B69F28#32
  | 25 => 0x33B5C377#32
  | 26 => 0xB3B4F732#32
  | 27 => 0x33B43A15#32
  | 28 => 0xB3B38BE5#32
  | 29 => 0x33B2EC6A#32
  | 30 => 0xB3B25B72#32
  | 31 => 0x33B1D8CF#32
  | 32 => 0xB3B16459#32
  | 33 => 0x33B0FDEA#32
  | 34 => 0xB3B0A563#32
  | 35 => 0x33B05AA9#32
  | 36 => 0xB3B01DA5#32
  | 37 => 0x33AFEE43#32
  | 38 => 0xB3AFCC75#32
  | 39 => 0x33AFB831#32
  | 40 => 0xB3AFB170#32
  | 41 => 0x33AFB831#32
  | 42 => 0xB3AFCC75#32
  | 43 => 0x33AFEE43#32
  | 44 => 0xB3B01DA5#32
  | 45 => 0x33B05AA9#32
  | 46 => 0xB3B0A563#32
  | 47 => 0x33B0FDEA#32
  | 48 => 0xB3B16459#32
  | 49 => 0x33B1D8CF#32
  | 50 => 0xB3B25B72#32
  | 51 => 0x33B2EC6A#32
  | 52 => 0xB3B38BE5#32
  | 53 => 0x33B43A15#32
  | 54 => 0xB3B4F732#32
  | 55 => 0x33B5C377#32
  | 56 => 0xB3B69F28#32
  | 57 => 0x33B78A8A#32
  | 58 => 0xB3B885EC#32
  | 59 => 0x33B9919E#32
  | 60 => 0xB3BAADFB#32
  | 61 => 0x33BBDB61#32
  | 62 => 0xB3BD1A36#32
  | 63 => 0x33BE6AE7#32
  | 64 => 0xB3BFCDE6#32
  | 65 => 0x33C143B0#32
  | 66 => 0xB3C2CCC7#32
  | 67 => 0x33C469B8#32
  | 68 => 0xB3C61B15#32
  | 69 => 0x33C7E17D#32
  | 70 => 0xB3C9BD97#32
  | 71 => 0x33CBB015#32
  | 72 => 0xB3CDB9B1#32
  | 73 => 0x33CFDB34#32
  | 74 => 0xB3D21572#32
  | 75 => 0x33D4694B#32
  | 76 => 0xB3D6D7AE#32
  | 77 => 0x33D96196#32
  | 78 => 0xB3DC0810#32
  | 79 => 0x33DECC38#32
  | 80 => 0xB3E1AF3D#32
  | 81 => 0x33E4B25D#32
  | 82 => 0xB3E7D6EF#32
  | 83 => 0x33EB1E5A#32
  | 84 => 0xB3EE8A1F#32
  | 85 => 0x33F21BD6#32
  | 86 => 0xB3F5D532#32
  | 87 => 0x33F9B800#32
  | 88 => 0xB3FDC62E#32
  | 89 => 0x340100E3#32
  | 90 => 0xB403367C#32
  | 91 => 0x3405850C#32
  | 92 => 0xB407EDD1#32
  | 93 => 0x340A721F#32
  | 94 => 0xB40D1360#32
  | 95 => 0x340FD31A#32
  | 96 => 0xB412B2ED#32
  | 97 => 0x3415B495#32
  | 98 => 0xB418D9F0#32
  | 99 => 0x341C2500#32
  | 100 => 0xB41F97EA#32
  | 101 => 0x342334FF#32
  | 102 => 0xB426FEBD#32
  | 103 => 0x342AF7D2#32
  | 104 => 0xB42F2322#32
  | 105 => 0x343383CC#32
  | 106 => 0xB4381D32#32
  | 107 => 0x343CF2FA#32
  | 108 => 0xB4420919#32
  | 109 => 0x344763DA#32
  | 110 => 0xB44D07E6#32
  | 111 => 0x3452FA51#32
  | 112 => 0xB45940A1#32
  | 113 => 0x345FE0DA#32
  | 114 => 0xB466E193#32
  | 115 => 0x346E49FF#32
  | 116 => 0xB4762200#32
  | 117 => 0x347E723F#32
  | 118 => 0xB483A221#32
  | 119 => 0x34885143#32
  | 120 => 0xB48D4C4D#32
  | 121 => 0x349299A5#32
  | 122 => 0xB4984061#32
  | 123 => 0x349E485F#32
  | 124 => 0xB4A4BA5F#32
  | 125 => 0x34ABA023#32
  | 126 => 0xB4B30492#32
  | 127 => 0x34BAF3E5#32
  | _ => 0#32

noncomputable abbrev lit0t0_337 (i : Nat) : BitVec 32 := match i % 128 with
  | 0 => 0xB4C37BD6#32
  | 1 => 0x34CCABDA#32
  | 2 => 0xB4D69568#32
  | 3 => 0x34E14C49#32
  | 4 => 0xB4ECE6F7#32
  | 5 => 0x34F97F13#32
  | 6 => 0xB50398F7#32
  | 7 => 0x350B1097#32
  | 8 => 0xB51339CD#32
  | 9 => 0x351C2B08#32
  | 10 => 0xB525FE56#32
  | 11 => 0x3530D21D#32
  | 12 => 0xB53CCA00#32
  | 13 => 0x354A0FF9#32
  | 14 => 0xB558D5BB#32
  | 15 => 0x35695670#32
  | 16 => 0xB57BD8F1#32
  | 17 => 0x3588594C#32
  | 18 => 0xB5942572#32
  | 19 => 0x35A19018#32
  | 20 => 0xB5B0E6EF#32
  | 21 => 0x35C28A3B#32
  | 22 => 0xB5D6F23A#32
  | 23 => 0x35EEB658#32
  | 24 => 0xB6054B76#32
  | 25 => 0x3615C529#32
  | 26 => 0xB6296767#32
  | 27 => 0x3641014B#32
  | 28 => 0xB65DA20C#32
  | 29 => 0x368056F2#32
  | 30 => 0xB695FBC4#32
  | 31 => 0x36B0ED61#32
  | 32 => 0xB6D29E9B#32
  | 33 => 0x36FFBDB2#32
  | 34 => 0xB692EE32#32
  | 35 => 0x391EBB1A#32
  | 36 => 0x3B12D0DF#32
  | 37 => 0x3CA0086D#32
  | 38 => 0x3DBAD58B#32
  | 39 => 0x3E6BB748#32
  | 40 => 0x3EA069FE#32
  | 41 => 0x3E6BB748#32
  | 42 => 0x3DBAD58B#32
  | 43 => 0x3CA0086D#32
  | 44 => 0x3B12D0DF#32
  | 45 => 0x391EBB1A#32
  | 46 => 0xB692EE32#32
  | 47 => 0x36FFBDB2#32
  | 48 => 0xB6D29E9B#32
  | 49 => 0x36B0ED61#32
  | 50 => 0xB695FBC4#32
  | 51 => 0x368056F2#32
  | 52 => 0xB65DA20C#32
  | 53 => 0x3641014B#32
  | 54 => 0xB6296767#32
  | 55 => 0x3615C529#32
  | 56 => 0xB6054B76#32
  | 57 => 0x35EEB658#32
  | 58 => 0xB5D6F23A#32
  | 59 => 0x35C28A3B#32
  | 60 => 0xB5B0E6EF#32
  | 61 => 0x35A19018#32
  | 62 => 0xB5942572#32
  | 63 => 0x3588594C#32
  | 64 => 0xB57BD8F1#32
  | 65 => 0x35695670#32
  | 66 => 0xB558D5BB#32
  | 67 => 0x354A0FF9#32
  | 68 => 0xB53CCA00#32
  | 69 => 0x3530D21D#32
  | 70 => 0xB525FE56#32
  | 71 => 0x351C2B08#32
  | 72 => 0xB51339CD#32
  | 73 => 0x350B1097#32
  | 74 => 0xB50398F7#32
  | 75 => 0x34F97F13#32
  | 76 => 0xB4ECE6F7#32
  | 77 => 0x34E14C49#32
  | 78 => 0xB4D69568#32
  | 79 => 0x34CCABDA#32
  | 80 => 0xB4C37BD6#32
  | 81 => 0x34BAF3E5#32
  | 82 => 0xB4B30492#32
  | 83 => 0x34ABA023#32
  | 84 => 0xB4A4BA5F#32
  | 85 => 0x349E485F#32
  | 86 => 0xB4984061#32
  | 87 => 0x349299A5#32
  | 88 => 0xB48D4C4D#32
  | 89 => 0x34885142#32
  | 90 => 0xB483A221#32
  | 91 => 0x347E723F#32
  | 92 => 0xB4762200#32
  | 93 => 0x346E49FF#32
  | 94 => 0xB466E193#32
  | 95 => 0x345FE0DA#32
  | 96 => 0xB45940A1#32
  | 97 => 0x3452FA51#32
  | 98 => 0xB44D07E6#32
  | 99 => 0x344763DA#32
  | 100 => 0xB4420919#32
  | 101 => 0x343CF2FA#32
  | 102 => 0xB4381D32#32
  | 103 => 0x343383CC#32
  | 104 => 0xB42F2322#32
  | 105 => 0x342AF7D2#32
  | 106 => 0xB426FEBD#32
  | 107 => 0x342334FF#32
  | 108 => 0xB41F97EA#32
  | 109 => 0x341C2500#32
  | 110 => 0xB418D9F0#32
  | 111 => 0x3415B495#32
  | 112 => 0xB412B2ED#32
  | 113 => 0x340FD31A#32
  | 114 => 0xB40D1360#32
  | 115 => 0x340A721F#32
  | 116 => 0xB407EDD1#32
  | 117 => 0x3405850C#32
  | 118 => 0xB403367C#32
  | 119 => 0x340100E3#32
  | 120 => 0xB3FDC62E#32
  | 121 => 0x33F9B800#32
  | 122 => 0xB3F5D532#32
  | 123 => 0x33F21BD6#32
  | 124 => 0xB3EE8A1F#32
  | 125 => 0x33EB1E5A#32
  | 126 => 0xB3E7D6EF#32
  | 127 => 0x33E4B25D#32
  | _ => 0#32

noncomputable abbrev lit0t0_338 (i : Nat) : BitVec 32 := match i % 128 with
  | 0 => 0x33E4B25D#32
  | 1 => 0xB3E1AF3D#32
  | 2 => 0x33DECC38#32
  | 3 => 0xB3DC0810#32
  | 4 => 0x33D96196#32
  | 5 => 0xB3D6D7AE#32
  | 6 => 0x33D4694B#32
  | 7 => 0xB3D21572#32
  | 8 => 0x33CFDB34#32
  | 9 => 0xB3CDB9B1#32
  | 10 => 0x33CBB015#32
  | 11 => 0xB3C9BD97#32
  | 12 => 0x33C7E17D#32
  | 13 => 0xB3C61B15#32
  | 14 => 0x33C469B8#32
  | 15 => 0xB3C2CCC7#32
  | 16 => 0x33C143B0#32
  | 17 => 0xB3BFCDE6#32
  | 18 => 0x33BE6AE7#32
  | 19 => 0xB3BD1A36#32
  | 20 => 0x33BBDB61#32
  | 21 => 0xB3BAADFB#32
  | 22 => 0x33B9919E#32
  | 23 => 0xB3B885EC#32
  | 24 => 0x33B78A8A#32
  | 25 => 0xB3B69F28#32
  | 26 => 0x33B5C377#32
  | 27 => 0xB3B4F732#32
  | 28 => 0x33B43A15#32
  | 29 => 0xB3B38BE5#32
  | 30 => 0x33B2EC6A#32
  | 31 => 0xB3B25B72#32
  | 32 => 0x33B1D8CF#32
  | 33 => 0xB3B16459#32
  | 34 => 0x33B0FDEA#32
  | 35 => 0xB3B0A563#32
  | 36 => 0x33B05AA9#32
  | 37 => 0xB3B01DA5#32
  | 38 => 0x33AFEE43#32
  | 39 => 0xB3AFCC75#32
  | 40 => 0x33AFB831#32
  | 41 => 0xB3AFB170#32
  | 42 => 0x33AFB831#32
  | 43 => 0xB3AFCC75#32
  | 44 => 0x33AFEE43#32
  | 45 => 0xB3B01DA5#32
  | 46 => 0x33B05AA9#32
  | 47 => 0xB3B0A563#32
  | 48 => 0x33B0FDEA#32
  | 49 => 0xB3B16459#32
  | 50 => 0x33B1D8CF#32
  | 51 => 0xB3B25B72#32
  | 52 => 0x33B2EC6A#32
  | 53 => 0xB3B38BE5#32
  | 54 => 0x33B43A15#32
  | 55 => 0xB3B4F732#32
  | 56 => 0x33B5C377#32
  | 57 => 0xB3B69F28#32
  | 58 => 0x33B78A8A#32
  | 59 => 0xB3B885EC#32
  | 60 => 0x33B9919E#32
  | 61 => 0xB3BAADFB#32
  | 62 => 0x33BBDB61#32
  | 63 => 0xB3BD1A36#32
  | 64 => 0x33BE6AE7#32
  | 65 => 0xB3BFCDE6#32
  | 66 => 0x33C143B0#32
  | 67 => 0xB3C2CCC7#32
  | 68 => 0x33C469B8#32
  | 69 => 0xB3C61B15#32
  | 70 => 0x33C7E17D#32
  | 71 => 0xB3C9BD97#32
  | 72 => 0x33CBB015#32
  | 73 => 0xB3CDB9B1#32
  | 74 => 0x33CFDB34#32
  | 75 => 0xB3D21572#32
  | 76 => 0x33D4694B#32
  | 77 => 0xB3D6D7AE#32
  | 78 => 0x33D96196#32
  | 79 => 0xB3DC0810#32
  | 80 => 0x33DECC38#32
  | 81 => 0xB3E1AF3D#32
  | 82 => 0x33E4B25D#32
  | 83 => 0xB3E7D6EF#32
  | 84 => 0x33EB1E5A#32
  | 85 => 0xB3EE8A1F#32
  | 86 => 0x33F21BD6#32
  | 87 => 0xB3F5D532#32
  | 88 => 0x33F9B800#32
  | 89 => 0xB3FDC62E#32
  | 90 => 0x340100E3#32
  | 91 => 0xB403367C#32
  | 92 => 0x3405850C#32
  | 93 => 0xB407EDD1#32
  | 94 => 0x340A721F#32
  | 95 => 0xB40D1360#32
  | 96 => 0x340FD31A#32
  | 97 => 0xB412B2ED#32
  | 98 => 0x3415B495#32
  | 99 => 0xB418D9F0#32
  | 100 => 0x341C2500#32
  | 101 => 0xB41F97EA#32
  | 102 => 0x342334FF#32
  | 103 => 0xB426FEBD#32
  | 104 => 0x342AF7D2#32
  | 105 => 0xB42F2322#32
  | 106 => 0x343383CC#32
  | 107 => 0xB4381D32#32
  | 108 => 0x343CF2FA#32
  | 109 => 0xB4420919#32
  | 110 => 0x344763DA#32
  | 111 => 0xB44D07E6#32
  | 112 => 0x3452FA51#32
  | 113 => 0xB45940A1#32
  | 114 => 0x345FE0DA#32
  | 115 => 0xB466E193#32
  | 116 => 0x346E49FF#32
  | 117 => 0xB4762200#32
  | 118 => 0x347E723F#32
  | 119 => 0xB483A221#32
  | 120 => 0x34885143#32
  | 121 => 0xB48D4C4D#32
  | 122 => 0x349299A5#32
  | 123 => 0xB4984061#32
  | 124 => 0x349E485F#32
  | 125 => 0xB4A4BA5F#32
  | 126 => 0x34ABA023#32
  | 127 => 0xB4B30492#32
  | _ => 0#32

noncomputable abbrev lit0t0_339 (i : Nat) : BitVec 32 := match i % 128 with
  | 0 => 0x34BAF3E5#32
  | 1 => 0xB4C37BD6#32
  | 2 => 0x34CCABDA#32
  | 3 => 0xB4D69568#32
  | 4 => 0x34E14C49#32
  | 5 => 0xB4ECE6F7#32
  | 6 => 0x34F97F13#32
  | 7 => 0xB50398F7#32
  | 8 => 0x350B1097#32
  | 9 => 0xB51339CD#32
  | 10 => 0x351C2B08#32
  | 11 => 0xB525FE56#32
  | 12 => 0x3530D21D#32
  | 13 => 0xB53CCA00#32
  | 14 => 0x354A0FF9#32
  | 15 => 0xB558D5BB#32
  | 16 => 0x35695670#32
  | 17 => 0xB57BD8F1#32
  | 18 => 0x3588594C#32
  | 19 => 0xB5942572#32
  | 20 => 0x35A19018#32
  | 21 => 0xB5B0E6EF#32
  | 22 => 0x35C28A3B#32
  | 23 => 0xB5D6F23A#32
  | 24 => 0x35EEB658#32
  | 25 => 0xB6054B76#32
  | 26 => 0x3615C529#32
  | 27 => 0xB6296767#32
  | 28 => 0x3641014B#32
  | 29 => 0xB65DA20C#32
  | 30 => 0x368056F2#32
  | 31 => 0xB695FBC4#32
  | 32 => 0x36B0ED61#32
  | 33 => 0xB6D29E9B#32
  | 34 => 0x36FFBDB2#32
  | 35 => 0xB692EE32#32
  | 36 => 0x391EBB1A#32
  | 37 => 0x3B12D0DF#32
  | 38 => 0x3CA0086D#32
  | 39 => 0x3DBAD58B#32
  | 40 => 0x3E6BB748#32
  | 41 => 0x3EA069FE#32
  | 42 => 0x3E6BB748#32
  | 43 => 0x3DBAD58B#32
  | 44 => 0x3CA0086D#32
  | 45 => 0x3B12D0DF#32
  | 46 => 0x391EBB1A#32
  | 47 => 0xB692EE32#32
  | 48 => 0x36FFBDB2#32
  | 49 => 0xB6D29E9B#32
  | 50 => 0x36B0ED61#32
  | 51 => 0xB695FBC4#32
  | 52 => 0x368056F2#32
  | 53 => 0xB65DA20C#32
  | 54 => 0x3641014B#32
  | 55 => 0xB6296767#32
  | 56 => 0x3615C529#32
  | 57 => 0xB6054B76#32
  | 58 => 0x35EEB658#32
  | 59 => 0xB5D6F23A#32
  | 60 => 0x35C28A3B#32
  | 61 => 0xB5B0E6EF#32
  | 62 => 0x35A19018#32
  | 63 => 0xB5942572#32
  | 64 => 0x3588594C#32
  | 65 => 0xB57BD8F1#32
  | 66 => 0x35695670#32
  | 67 => 0xB558D5BB#32
  | 68 => 0x354A0FF9#32
  | 69 => 0xB53CCA00#32
  | 70 => 0x3530D21D#32
  | 71 => 0xB525FE56#32
  | 72 => 0x351C2B08#32
  | 73 => 0xB51339CD#32
  | 74 => 0x350B1097#32
  | 75 => 0xB50398F7#32
  | 76 => 0x34F97F13#32
  | 77 => 0xB4ECE6F7#32
  | 78 => 0x34E14C49#32
  | 79 => 0xB4D69568#32
  | 80 => 0x34CCABDA#32
  | 81 => 0xB4C37BD6#32
  | 82 => 0x34BAF3E5#32
  | 83 => 0xB4B30492#32
  | 84 => 0x34ABA023#32
  | 85 => 0xB4A4BA5F#32
  | 86 => 0x349E485F#32
  | 87 => 0xB4984061#32
  | 88 => 0x349299A5#32
  | 89 => 0xB48D4C4D#32
  | 90 => 0x34885143#32
  | 91 => 0xB483A221#32
  | 92 => 0x347E723F#32
  | 93 => 0xB4762200#32
  | 94 => 0x346E49FF#32
  | 95 => 0xB466E193#32
  | 96 => 0x345FE0DA#32
  | 97 => 0xB45940A1#32
  | 98 => 0x3452FA51#32
  | 99 => 0xB44D07E6#32
  | 100 => 0x344763DA#32
  | 101 => 0xB4420919#32
  | 102 => 0x343CF2FA#32
  | 103 => 0xB4381D32#32
  | 104 => 0x343383CC#32
  | 105 => 0xB42F2322#32
  | 106 => 0x342AF7D2#32
  | 107 => 0xB426FEBD#32
  | 108 => 0x342334FF#32
  | 109 => 0xB41F97EA#32
  | 110 => 0x341C2500#32
  | 111 => 0xB418D9F0#32
  | 112 => 0x3415B495#32
  | 113 => 0xB412B2ED#32
  | 114 => 0x340FD31A#32
  | 115 => 0xB40D1360#32
  | 116 => 0x340A721F#32
  | 117 => 0xB407EDD1#32
  | 118 => 0x3405850C#32
  | 119 => 0xB403367C#32
  | 120 => 0x340100E3#32
  | 121 => 0xB3FDC62E#32
  | 122 => 0x33F9B800#32
  | 123 => 0xB3F5D532#32
  | 124 => 0x33F21BD6#32
  | 125 => 0xB3EE8A1F#32
  | 126 => 0x33EB1E5A#32
  | 127 => 0xB3E7D6EF#32
  | _ => 0#32

noncomputable abbrev lit0t0_340 (i : Nat) : BitVec 32 := match i % 128 with
  | 0 => 0xB3E7D6EF#32
  | 1 => 0x33E4B25D#32
  | 2 => 0xB3E1AF3D#32
  | 3 => 0x33DECC38#32
  | 4 => 0xB3DC0810#32
  | 5 => 0x33D96196#32
  | 6 => 0xB3D6D7AE#32
  | 7 => 0x33D4694B#32
  | 8 => 0xB3D21572#32
  | 9 => 0x33CFDB34#32
  | 10 => 0xB3CDB9B1#32
  | 11 => 0x33CBB015#32
  | 12 => 0xB3C9BD97#32
  | 13 => 0x33C7E17D#32
  | 14 => 0xB3C61B15#32
  | 15 => 0x33C469B8#32
  | 16 => 0xB3C2CCC7#32
  | 17 => 0x33C143B0#32
  | 18 => 0xB3BFCDE6#32
  | 19 => 0x33BE6AE7#32
  | 20 => 0xB3BD1A36#32
  | 21 => 0x33BBDB61#32
  | 22 => 0xB3BAADFB#32
  | 23 => 0x33B9919E#32
  | 24 => 0xB3B885EC#32
  | 25 => 0x33B78A8A#32
  | 26 => 0xB3B69F28#32
  | 27 => 0x33B5C377#32
  | 28 => 0xB3B4F732#32
  | 29 => 0x33B43A15#32
  | 30 => 0xB3B38BE5#32
  | 31 => 0x33B2EC6A#32
  | 32 => 0xB3B25B72#32
  | 33 => 0x33B1D8CF#32
  | 34 => 0xB3B16459#32
  | 35 => 0x33B0FDEA#32
  | 36 => 0xB3B0A563#32
  | 37 => 0x33B05AA9#32
  | 38 => 0xB3B01DA5#32
  | 39 => 0x33AFEE43#32
  | 40 => 0xB3AFCC75#32
  | 41 => 0x33AFB831#32
  | 42 => 0xB3AFB170#32
  | 43 => 0x33AFB831#32
  | 44 => 0xB3AFCC75#32
  | 45 => 0x33AFEE43#32
  | 46 => 0xB3B01DA5#32
  | 47 => 0x33B05AA9#32
  | 48 => 0xB3B0A563#32
  | 49 => 0x33B0FDEA#32
  | 50 => 0xB3B16459#32
  | 51 => 0x33B1D8CF#32
  | 52 => 0xB3B25B72#32
  | 53 => 0x33B2EC6A#32
  | 54 => 0xB3B38BE5#32
  | 55 => 0x33B43A15#32
  | 56 => 0xB3B4F732#32
  | 57 => 0x33B5C377#32
  | 58 => 0xB3B69F28#32
  | 59 => 0x33B78A8A#32
  | 60 => 0xB3B885EC#32
  | 61 => 0x33B9919E#32
  | 62 => 0xB3BAADFB#32
  | 63 => 0x33BBDB61#32
  | 64 => 0xB3BD1A36#32
  | 65 => 0x33BE6AE7#32
  | 66 => 0xB3BFCDE6#32
  | 67 => 0x33C143B0#32
  | 68 => 0xB3C2CCC7#32
  | 69 => 0x33C469B8#32
  | 70 => 0xB3C61B15#32
  | 71 => 0x33C7E17D#32
  | 72 => 0xB3C9BD97#32
  | 73 => 0x33CBB015#32
  | 74 => 0xB3CDB9B1#32
  | 75 => 0x33CFDB34#32
  | 76 => 0xB3D21572#32
  | 77 => 0x33D4694B#32
  | 78 => 0xB3D6D7AE#32
  | 79 => 0x33D96196#32
  | 80 => 0xB3DC0810#32
  | 81 => 0x33DECC38#32
  | 82 => 0xB3E1AF3D#32
  | 83 => 0x33E4B25D#32
  | 84 => 0xB3E7D6EF#32
  | 85 => 0x33EB1E5A#32
  | 86 => 0xB3EE8A1F#32
  | 87 => 0x33F21BD6#32
  | 88 => 0xB3F5D532#32
  | 89 => 0x33F9B800#32
  | 90 => 0xB3FDC62E#32
  | 91 => 0x340100E3#32
  | 92 => 0xB403367C#32
  | 93 => 0x3405850C#32
  | 94 => 0xB407EDD1#32
  | 95 => 0x340A721F#32
  | 96 => 0xB40D1360#32
  | 97 => 0x340FD31A#32
  | 98 => 0xB412B2ED#32
  | 99 => 0x3415B495#32
  | 100 => 0xB418D9F0#32
  | 101 => 0x341C2500#32
  | 102 => 0xB41F97EA#32
  | 103 => 0x342334FF#32
  | 104 => 0xB426FEBD#32
  | 105 => 0x342AF7D2#32
  | 106 => 0xB42F2322#32
  | 107 => 0x343383CC#32
  | 108 => 0xB4381D32#32
  | 109 => 0x343CF2FA#32
  | 110 => 0xB4420919#32
  | 111 => 0x344763DA#32
  | 112 => 0xB44D07E6#32
  | 113 => 0x3452FA51#32
  | 114 => 0xB45940A1#32
  | 115 => 0x345FE0DA#32
  | 116 => 0xB466E193#32
  | 117 => 0x346E49FF#32
  | 118 => 0xB4762200#32
  | 119 => 0x347E723F#32
  | 120 => 0xB483A221#32
  | 121 => 0x34885143#32
  | 122 => 0xB48D4C4D#32
  | 123 => 0x349299A5#32
  | 124 => 0xB4984061#32
  | 125 => 0x349E485F#32
  | 126 => 0xB4A4BA5F#32
  | 127 => 0x34ABA023#32
  | _ => 0#32

noncomputable abbrev lit0t0_341 (i : Nat) : BitVec 32 := match i % 128 with
  | 0 => 0xB4B30492#32
  | 1 => 0x34BAF3E5#32
  | 2 => 0xB4C37BD6#32
  | 3 => 0x34CCABDA#32
  | 4 => 0xB4D69568#32
  | 5 => 0x34E14C49#32
  | 6 => 0xB4ECE6F7#32
  | 7 => 0x34F97F13#32
  | 8 => 0xB50398F7#32
  | 9 => 0x350B1097#32
  | 10 => 0xB51339CD#32
  | 11 => 0x351C2B08#32
  | 12 => 0xB525FE56#32
  | 13 => 0x3530D21D#32
  | 14 => 0xB53CCA00#32
  | 15 => 0x354A0FF9#32
  | 16 => 0xB558D5BB#32
  | 17 => 0x35695670#32
  | 18 => 0xB57BD8F1#32
  | 19 => 0x3588594C#32
  | 20 => 0xB5942572#32
  | 21 => 0x35A19018#32
  | 22 => 0xB5B0E6EF#32
  | 23 => 0x35C28A3B#32
  | 24 => 0xB5D6F23A#32
  | 25 => 0x35EEB658#32
  | 26 => 0xB6054B76#32
  | 27 => 0x3615C529#32
  | 28 => 0xB6296767#32
  | 29 => 0x3641014B#32
  | 30 => 0xB65DA20C#32
  | 31 => 0x368056F2#32
  | 32 => 0xB695FBC4#32
  | 33 => 0x36B0ED61#32
  | 34 => 0xB6D29E9B#32
  | 35 => 0x36FFBDB2#32
  | 36 => 0xB692EE32#32
  | 37 => 0x391EBB1A#32
  | 38 => 0x3B12D0DF#32
  | 39 => 0x3CA0086D#32
  | 40 => 0x3DBAD58B#32
  | 41 => 0x3E6BB748#32
  | 42 => 0x3EA069FE#32
  | 43 => 0x3E6BB748#32
  | 44 => 0x3DBAD58B#32
  | 45 => 0x3CA0086D#32
  | 46 => 0x3B12D0DF#32
  | 47 => 0x391EBB1A#32
  | 48 => 0xB692EE32#32
  | 49 => 0x36FFBDB2#32
  | 50 => 0xB6D29E9B#32
  | 51 => 0x36B0ED61#32
  | 52 => 0xB695FBC4#32
  | 53 => 0x368056F2#32
  | 54 => 0xB65DA20C#32
  | 55 => 0x3641014B#32
  | 56 => 0xB6296767#32
  | 57 => 0x3615C529#32
  | 58 => 0xB6054B76#32
  | 59 => 0x35EEB658#32
  | 60 => 0xB5D6F23A#32
  | 61 => 0x35C28A3B#32
  | 62 => 0xB5B0E6EF#32
  | 63 => 0x35A19018#32
  | 64 => 0xB5942572#32
  | 65 => 0x3588594C#32
  | 66 => 0xB57BD8F1#32
  | 67 => 0x35695670#32
  | 68 => 0xB558D5BB#32
  | 69 => 0x354A0FF9#32
  | 70 => 0xB53CCA00#32
  | 71 => 0x3530D21D#32
  | 72 => 0xB525FE56#32
  | 73 => 0x351C2B08#32
  | 74 => 0xB51339CD#32
  | 75 => 0x350B1097#32
  | 76 => 0xB50398F7#32
  | 77 => 0x34F97F13#32
  | 78 => 0xB4ECE6F7#32
  | 79 => 0x34E14C49#32
  | 80 => 0xB4D69568#32
  | 81 => 0x34CCABDA#32
  | 82 => 0xB4C37BD6#32
  | 83 => 0x34BAF3E5#32
  | 84 => 0xB4B30492#32
  | 85 => 0x34ABA023#32
  | 86 => 0xB4A4BA5F#32
  | 87 => 0x349E485F#32
  | 88 => 0xB4984061#32
  | 89 => 0x349299A5#32
  | 90 => 0xB48D4C4D#32
  | 91 => 0x34885143#32
  | 92 => 0xB483A221#32
  | 93 => 0x347E723F#32
  | 94 => 0xB4762200#32
  | 95 => 0x346E49FF#32
  | 96 => 0xB466E193#32
  | 97 => 0x345FE0DA#32
  | 98 => 0xB45940A1#32
  | 99 => 0x3452FA51#32
  | 100 => 0xB44D07E6#32
  | 101 => 0x344763DA#32
  | 102 => 0xB4420919#32
  | 103 => 0x343CF2FA#32
  | 104 => 0xB4381D32#32
  | 105 => 0x343383CC#32
  | 106 => 0xB42F2322#32
  | 107 => 0x342AF7D2#32
  | 108 => 0xB426FEBD#32
  | 109 => 0x342334FF#32
  | 110 => 0xB41F97EA#32
  | 111 => 0x341C2500#32
  | 112 => 0xB418D9F0#32
  | 113 => 0x3415B495#32
  | 114 => 0xB412B2ED#32
  | 115 => 0x340FD31A#32
  | 116 => 0xB40D1360#32
  | 117 => 0x340A721F#32
  | 118 => 0xB407EDD1#32
  | 119 => 0x3405850C#32
  | 120 => 0xB403367C#32
  | 121 => 0x340100E3#32
  | 122 => 0xB3FDC62E#32
  | 123 => 0x33F9B800#32
  | 124 => 0xB3F5D532#32
  | 125 => 0x33F21BD6#32
  | 126 => 0xB3EE8A1F#32
  | 127 => 0x33EB1E5A#32
  | _ => 0#32

noncomputable abbrev lit0t0_342 (i : Nat) : BitVec 32 := match i % 128 with
  | 0 => 0x33EB1E5A#32
  | 1 => 0xB3E7D6EF#32
  | 2 => 0x33E4B25D#32
  | 3 => 0xB3E1AF3D#32
  | 4 => 0x33DECC38#32
  | 5 => 0xB3DC0810#32
  | 6 => 0x33D96196#32
  | 7 => 0xB3D6D7AE#32
  | 8 => 0x33D4694B#32
  | 9 => 0xB3D21572#32
  | 10 => 0x33CFDB34#32
  | 11 => 0xB3CDB9B1#32
  | 12 => 0x33CBB015#32
  | 13 => 0xB3C9BD97#32
  | 14 => 0x33C7E17D#32
  | 15 => 0xB3C61B15#32
  | 16 => 0x33C469B8#32
  | 17 => 0xB3C2CCC7#32
  | 18 => 0x33C143B0#32
  | 19 => 0xB3BFCDE6#32
  | 20 => 0x33BE6AE7#32
  | 21 => 0xB3BD1A36#32
  | 22 => 0x33BBDB61#32
  | 23 => 0xB3BAADFB#32
  | 24 => 0x33B9919E#32
  | 25 => 0xB3B885EC#32
  | 26 => 0x33B78A8A#32
  | 27 => 0xB3B69F28#32
  | 28 => 0x33B5C377#32
  | 29 => 0xB3B4F732#32
  | 30 => 0x33B43A15#32
  | 31 => 0xB3B38BE5#32
  | 32 => 0x33B2EC6A#32
  | 33 => 0xB3B25B72#32
  | 34 => 0x33B1D8CF#32
  | 35 => 0xB3B16459#32
  | 36 => 0x33B0FDEA#32
  | 37 => 0xB3B0A563#32
  | 38 => 0x33B05AA9#32
  | 39 => 0xB3B01DA5#32
  | 40 => 0x33AFEE43#32
  | 41 => 0xB3AFCC75#32
  | 42 => 0x33AFB831#32
  | 43 => 0xB3AFB170#32
  | 44 => 0x33AFB831#32
  | 45 => 0xB3AFCC75#32
  | 46 => 0x33AFEE43#32
  | 47 => 0xB3B01DA5#32
  | 48 => 0x33B05AA9#32
  | 49 => 0xB3B0A563#32
  | 50 => 0x33B0FDEA#32
  | 51 => 0xB3B16459#32
  | 52 => 0x33B1D8CF#32
  | 53 => 0xB3B25B72#32
  | 54 => 0x33B2EC6A#32
  | 55 => 0xB3B38BE5#32
  | 56 => 0x33B43A15#32
  | 57 => 0xB3B4F732#32
  | 58 => 0x33B5C377#32
  | 59 => 0xB3B69F28#32
  | 60 => 0x33B78A8A#32
  | 61 => 0xB3B885EC#32
  | 62 => 0x33B9919E#32
  | 63 => 0xB3BAADFB#32
  | 64 => 0x33BBDB61#32
  | 65 => 0xB3BD1A36#32
  | 66 => 0x33BE6AE7#32
  | 67 => 0xB3BFCDE6#32
  | 68 => 0x33C143B0#32
  | 69 => 0xB3C2CCC7#32
  | 70 => 0x33C469B8#32
  | 71 => 0xB3C61B15#32
  | 72 => 0x33C7E17D#32
  | 73 => 0xB3C9BD97#32
  | 74 => 0x33CBB015#32
  | 75 => 0xB3CDB9B1#32
  | 76 => 0x33CFDB34#32
  | 77 => 0xB3D21572#32
  | 78 => 0x33D4694B#32
  | 79 => 0xB3D6D7AE#32
  | 80 => 0x33D96196#32
  | 81 => 0xB3DC0810#32
  | 82 => 0x33DECC38#32
  | 83 => 0xB3E1AF3D#32
  | 84 => 0x33E4B25D#32
  | 85 => 0xB3E7D6EF#32
  | 86 => 0x33EB1E5A#32
  | 87 => 0xB3EE8A1F#32
  | 88 => 0x33F21BD6#32
  | 89 => 0xB3F5D532#32
  | 90 => 0x33F9B800#32
  | 91 => 0xB3FDC62E#32
  | 92 => 0x340100E3#32
  | 93 => 0xB403367C#32
  | 94 => 0x3405850C#32
  | 95 => 0xB407EDD1#32
  | 96 => 0x340A721F#32
  | 97 => 0xB40D1360#32
  | 98 => 0x340FD31A#32
  | 99 => 0xB412B2ED#32
  | 100 => 0x3415B495#32
  | 101 => 0xB418D9F0#32
  | 102 => 0x341C2500#32
  | 103 => 0xB41F97EA#32
  | 104 => 0x342334FF#32
  | 105 => 0xB426FEBD#32
  | 106 => 0x342AF7D2#32
  | 107 => 0xB42F2322#32
  | 108 => 0x343383CC#32
  | 109 => 0xB4381D32#32
  | 110 => 0x343CF2FA#32
  | 111 => 0xB4420919#32
  | 112 => 0x344763DA#32
  | 113 => 0xB44D07E6#32
  | 114 => 0x3452FA51#32
  | 115 => 0xB45940A1#32
  | 116 => 0x345FE0DA#32
  | 117 => 0xB466E193#32
  | 118 => 0x346E49FF#32
  | 119 => 0xB4762200#32
  | 120 => 0x347E723F#32
  | 121 => 0xB483A221#32
  | 122 => 0x34885143#32
  | 123 => 0xB48D4C4D#32
  | 124 => 0x349299A5#32
  | 125 => 0xB4984061#32
  | 126 => 0x349E485F#32
  | 127 => 0xB4A4BA5F#32
  | _ => 0#32

noncomputable abbrev lit0t0_343 (i : Nat) : BitVec 32 := match i % 128 with
  | 0 => 0x34ABA023#32
  | 1 => 0xB4B30492#32
  | 2 => 0x34BAF3E5#32
  | 3 => 0xB4C37BD6#32
  | 4 => 0x34CCABDA#32
  | 5 => 0xB4D69568#32
  | 6 => 0x34E14C49#32
  | 7 => 0xB4ECE6F7#32
  | 8 => 0x34F97F13#32
  | 9 => 0xB50398F7#32
  | 10 => 0x350B1097#32
  | 11 => 0xB51339CD#32
  | 12 => 0x351C2B08#32
  | 13 => 0xB525FE56#32
  | 14 => 0x3530D21D#32
  | 15 => 0xB53CCA00#32
  | 16 => 0x354A0FF9#32
  | 17 => 0xB558D5BB#32
  | 18 => 0x35695670#32
  | 19 => 0xB57BD8F1#32
  | 20 => 0x3588594C#32
  | 21 => 0xB5942572#32
  | 22 => 0x35A19018#32
  | 23 => 0xB5B0E6EF#32
  | 24 => 0x35C28A3B#32
  | 25 => 0xB5D6F23A#32
  | 26 => 0x35EEB658#32
  | 27 => 0xB6054B76#32
  | 28 => 0x3615C529#32
  | 29 => 0xB6296767#32
  | 30 => 0x3641014B#32
  | 31 => 0xB65DA20C#32
  | 32 => 0x368056F2#32
  | 33 => 0xB695FBC4#32
  | 34 => 0x36B0ED61#32
  | 35 => 0xB6D29E9B#32
  | 36 => 0x36FFBDB2#32
  | 37 => 0xB692EE32#32
  | 38 => 0x391EBB1A#32
  | 39 => 0x3B12D0DF#32
  | 40 => 0x3CA0086D#32
  | 41 => 0x3DBAD58B#32
  | 42 => 0x3E6BB748#32
  | 43 => 0x3EA069FE#32
  | 44 => 0x3E6BB748#32
  | 45 => 0x3DBAD58B#32
  | 46 => 0x3CA0086D#32
  | 47 => 0x3B12D0DF#32
  | 48 => 0x391EBB1A#32
  | 49 => 0xB692EE32#32
  | 50 => 0x36FFBDB2#32
  | 51 => 0xB6D29E9B#32
  | 52 => 0x36B0ED61#32
  | 53 => 0xB695FBC4#32
  | 54 => 0x368056F2#32
  | 55 => 0xB65DA20C#32
  | 56 => 0x3641014B#32
  | 57 => 0xB6296767#32
  | 58 => 0x3615C529#32
  | 59 => 0xB6054B76#32
  | 60 => 0x35EEB658#32
  | 61 => 0xB5D6F23A#32
  | 62 => 0x35C28A3B#32
  | 63 => 0xB5B0E6EF#32
  | 64 => 0x35A19018#32
  | 65 => 0xB5942572#32
  | 66 => 0x3588594C#32
  | 67 => 0xB57BD8F1#32
  | 68 => 0x35695670#32
  | 69 => 0xB558D5BB#32
  | 70 => 0x354A0FF9#32
  | 71 => 0xB53CCA00#32
  | 72 => 0x3530D21D#32
  | 73 => 0xB525FE56#32
  | 74 => 0x351C2B08#32
  | 75 => 0xB51339CD#32
  | 76 => 0x350B1097#32
  | 77 => 0xB50398F7#32
  | 78 => 0x34F97F13#32
  | 79 => 0xB4ECE6F7#32
  | 80 => 0x34E14C49#32
  | 81 => 0xB4D69568#32
  | 82 => 0x34CCABDA#32
  | 83 => 0xB4C37BD6#32
  | 84 => 0x34BAF3E5#32
  | 85 => 0xB4B30492#32
  | 86 => 0x34ABA023#32
  | 87 => 0xB4A4BA5F#32
  | 88 => 0x349E485F#32
  | 89 => 0xB4984061#32
  | 90 => 0x349299A5#32
  | 91 => 0xB48D4C4D#32
  | 92 => 0x34885143#32
  | 93 => 0xB483A221#32
  | 94 => 0x347E723F#32
  | 95 => 0xB4762200#32
  | 96 => 0x346E49FF#32
  | 97 => 0xB466E193#32
  | 98 => 0x345FE0DA#32
  | 99 => 0xB45940A1#32
  | 100 => 0x3452FA51#32
  | 101 => 0xB44D07E6#32
  | 102 => 0x344763DA#32
  | 103 => 0xB4420919#32
  | 104 => 0x343CF2FA#32
  | 105 => 0xB4381D32#32
  | 106 => 0x343383CC#32
  | 107 => 0xB42F2322#32
  | 108 => 0x342AF7D2#32
  | 109 => 0xB426FEBD#32
  | 110 => 0x342334FF#32
  | 111 => 0xB41F97EA#32
  | 112 => 0x341C2500#32
  | 113 => 0xB418D9F0#32
  | 114 => 0x3415B495#32
  | 115 => 0xB412B2ED#32
  | 116 => 0x340FD31A#32
  | 117 => 0xB40D1360#32
  | 118 => 0x340A721F#32
  | 119 => 0xB407EDD1#32
  | 120 => 0x3405850C#32
  | 121 => 0xB403367C#32
  | 122 => 0x340100E3#32
  | 123 => 0xB3FDC62E#32
  | 124 => 0x33F9B800#32
  | 125 => 0xB3F5D532#32
  | 126 => 0x33F21BD6#32
  | 127 => 0xB3EE8A1F#32
  | _ => 0#32

noncomputable abbrev lit0t0_344 (i : Nat) : BitVec 32 := match i % 128 with
  | 0 => 0xB3EE8A1F#32
  | 1 => 0x33EB1E5A#32
  | 2 => 0xB3E7D6EF#32
  | 3 => 0x33E4B25D#32
  | 4 => 0xB3E1AF3D#32
  | 5 => 0x33DECC38#32
  | 6 => 0xB3DC0810#32
  | 7 => 0x33D96196#32
  | 8 => 0xB3D6D7AE#32
  | 9 => 0x33D4694B#32
  | 10 => 0xB3D21572#32
  | 11 => 0x33CFDB34#32
  | 12 => 0xB3CDB9B1#32
  | 13 => 0x33CBB015#32
  | 14 => 0xB3C9BD97#32
  | 15 => 0x33C7E17D#32
  | 16 => 0xB3C61B15#32
  | 17 => 0x33C469B8#32
  | 18 => 0xB3C2CCC7#32
  | 19 => 0x33C143B0#32
  | 20 => 0xB3BFCDE6#32
  | 21 => 0x33BE6AE7#32
  | 22 => 0xB3BD1A36#32
  | 23 => 0x33BBDB61#32
  | 24 => 0xB3BAADFB#32
  | 25 => 0x33B9919E#32
  | 26 => 0xB3B885EC#32
  | 27 => 0x33B78A8A#32
  | 28 => 0xB3B69F28#32
  | 29 => 0x33B5C377#32
  | 30 => 0xB3B4F732#32
  | 31 => 0x33B43A15#32
  | 32 => 0xB3B38BE5#32
  | 33 => 0x33B2EC6A#32
  | 34 => 0xB3B25B72#32
  | 35 => 0x33B1D8CF#32
  | 36 => 0xB3B16459#32
  | 37 => 0x33B0FDEA#32
  | 38 => 0xB3B0A563#32
  | 39 => 0x33B05AA9#32
  | 40 => 0xB3B01DA5#32
  | 41 => 0x33AFEE43#32
  | 42 => 0xB3AFCC75#32
  | 43 => 0x33AFB831#32
  | 44 => 0xB3AFB170#32
  | 45 => 0x33AFB831#32
  | 46 => 0xB3AFCC75#32
  | 47 => 0x33AFEE43#32
  | 48 => 0xB3B01DA5#32
  | 49 => 0x33B05AA9#32
  | 50 => 0xB3B0A563#32
  | 51 => 0x33B0FDEA#32
  | 52 => 0xB3B16459#32
  | 53 => 0x33B1D8CF#32
  | 54 => 0xB3B25B72#32
  | 55 => 0x33B2EC6A#32
  | 56 => 0xB3B38BE5#32
  | 57 => 0x33B43A15#32
  | 58 => 0xB3B4F732#32
  | 59 => 0x33B5C377#32
  | 60 => 0xB3B69F28#32
  | 61 => 0x33B78A8A#32
  | 62 => 0xB3B885EC#32
  | 63 => 0x33B9919E#32
  | 64 => 0xB3BAADFB#32
  | 65 => 0x33BBDB61#32
  | 66 => 0xB3BD1A36#32
  | 67 => 0x33BE6AE7#32
  | 68 => 0xB3BFCDE6#32
  | 69 => 0x33C143B0#32
  | 70 => 0xB3C2CCC7#32
  | 71 => 0x33C469B8#32
  | 72 => 0xB3C61B15#32
  | 73 => 0x33C7E17D#32
  | 74 => 0xB3C9BD97#32
  | 75 => 0x33CBB015#32
  | 76 => 0xB3CDB9B1#32
  | 77 => 0x33CFDB34#32
  | 78 => 0xB3D21572#32
  | 79 => 0x33D4694B#32
  | 80 => 0xB3D6D7AE#32
  | 81 => 0x33D96196#32
  | 82 => 0xB3DC0810#32
  | 83 => 0x33DECC38#32
  | 84 => 0xB3E1AF3D#32
  | 85 => 0x33E4B25D#32
  | 86 => 0xB3E7D6EF#32
  | 87 => 0x33EB1E5A#32
  | 88 => 0xB3EE8A1F#32
  | 89 => 0x33F21BD6#32
  | 90 => 0xB3F5D532#32
  | 91 => 0x33F9B800#32
  | 92 => 0xB3FDC62E#32
  | 93 => 0x340100E3#32
  | 94 => 0xB403367C#32
  | 95 => 0x3405850C#32
  | 96 => 0xB407EDD1#32
  | 97 => 0x340A721F#32
  | 98 => 0xB40D1360#32
  | 99 => 0x340FD31A#32
  | 100 => 0xB412B2ED#32
  | 101 => 0x3415B495#32
  | 102 => 0xB418D9F0#32
  | 103 => 0x341C2500#32
  | 104 => 0xB41F97EA#32
  | 105 => 0x342334FF#32
  | 106 => 0xB426FEBD#32
  | 107 => 0x342AF7D2#32
  | 108 => 0xB42F2322#32
  | 109 => 0x343383CC#32
  | 110 => 0xB4381D32#32
  | 111 => 0x343CF2FA#32
  | 112 => 0xB4420919#32
  | 113 => 0x344763DA#32
  | 114 => 0xB44D07E6#32
  | 115 => 0x3452FA51#32
  | 116 => 0xB45940A1#32
  | 117 => 0x345FE0DA#32
  | 118 => 0xB466E193#32
  | 119 => 0x346E49FF#32
  | 120 => 0xB4762200#32
  | 121 => 0x347E723F#32
  | 122 => 0xB483A221#32
  | 123 => 0x34885142#32
  | 124 => 0xB48D4C4D#32
  | 125 => 0x349299A5#32
  | 126 => 0xB4984061#32
  | 127 => 0x349E485F#32
  | _ => 0#32

noncomputable abbrev lit0t0_345 (i : Nat) : BitVec 32 := match i % 128 with
  | 0 => 0xB4A4BA5F#32
  | 1 => 0x34ABA023#32
  | 2 => 0xB4B30492#32
  | 3 => 0x34BAF3E5#32
  | 4 => 0xB4C37BD6#32
  | 5 => 0x34CCABDA#32
  | 6 => 0xB4D69568#32
  | 7 => 0x34E14C49#32
  | 8 => 0xB4ECE6F7#32
  | 9 => 0x34F97F13#32
  | 10 => 0xB50398F7#32
  | 11 => 0x350B1097#32
  | 12 => 0xB51339CD#32
  | 13 => 0x351C2B08#32
  | 14 => 0xB525FE56#32
  | 15 => 0x3530D21D#32
  | 16 => 0xB53CCA00#32
  | 17 => 0x354A0FF9#32
  | 18 => 0xB558D5BB#32
  | 19 => 0x35695670#32
  | 20 => 0xB57BD8F1#32
  | 21 => 0x3588594C#32
  | 22 => 0xB5942572#32
  | 23 => 0x35A19018#32
  | 24 => 0xB5B0E6EF#32
  | 25 => 0x35C28A3B#32
  | 26 => 0xB5D6F23A#32
  | 27 => 0x35EEB658#32
  | 28 => 0xB6054B76#32
  | 29 => 0x3615C529#32
  | 30 => 0xB6296767#32
  | 31 => 0x3641014B#32
  | 32 => 0xB65DA20C#32
  | 33 => 0x368056F2#32
  | 34 => 0xB695FBC4#32
  | 35 => 0x36B0ED61#32
  | 36 => 0xB6D29E9B#32
  | 37 => 0x36FFBDB2#32
  | 38 => 0xB692EE32#32
  | 39 => 0x391EBB1A#32
  | 40 => 0x3B12D0DF#32
  | 41 => 0x3CA0086D#32
  | 42 => 0x3DBAD58B#32
  | 43 => 0x3E6BB748#32
  | 44 => 0x3EA069FE#32
  | 45 => 0x3E6BB748#32
  | 46 => 0x3DBAD58B#32
  | 47 => 0x3CA0086D#32
  | 48 => 0x3B12D0DF#32
  | 49 => 0x391EBB1A#32
  | 50 => 0xB692EE32#32
  | 51 => 0x36FFBDB2#32
  | 52 => 0xB6D29E9B#32
  | 53 => 0x36B0ED61#32
  | 54 => 0xB695FBC4#32
  | 55 => 0x368056F2#32
  | 56 => 0xB65DA20C#32
  | 57 => 0x3641014B#32
  | 58 => 0xB6296767#32
  | 59 => 0x3615C529#32
  | 60 => 0xB6054B76#32
  | 61 => 0x35EEB658#32
  | 62 => 0xB5D6F23A#32
  | 63 => 0x35C28A3B#32
  | 64 => 0xB5B0E6EF#32
  | 65 => 0x35A19018#32
  | 66 => 0xB5942572#32
  | 67 => 0x3588594C#32
  | 68 => 0xB57BD8F1#32
  | 69 => 0x35695670#32
  | 70 => 0xB558D5BB#32
  | 71 => 0x354A0FF9#32
  | 72 => 0xB53CCA00#32
  | 73 => 0x3530D21D#32
  | 74 => 0xB525FE56#32
  | 75 => 0x351C2B08#32
  | 76 => 0xB51339CD#32
  | 77 => 0x350B1097#32
  | 78 => 0xB50398F7#32
  | 79 => 0x34F97F13#32
  | 80 => 0xB4ECE6F7#32
  | 81 => 0x34E14C49#32
  | 82 => 0xB4D69568#32
  | 83 => 0x34CCABDA#32
  | 84 => 0xB4C37BD6#32
  | 85 => 0x34BAF3E5#32
  | 86 => 0xB4B30492#32
  | 87 => 0x34ABA023#32
  | 88 => 0xB4A4BA5F#32
  | 89 => 0x349E485F#32
  | 90 => 0xB4984061#32
  | 91 => 0x349299A5#32
  | 92 => 0xB48D4C4D#32
  | 93 => 0x34885142#32
  | 94 => 0xB483A221#32
  | 95 => 0x347E723F#32
  | 96 => 0xB4762200#32
  | 97 => 0x346E49FF#32
  | 98 => 0xB466E193#32
  | 99 => 0x345FE0DA#32
  | 100 => 0xB45940A1#32
  | 101 => 0x3452FA51#32
  | 102 => 0xB44D07E6#32
  | 103 => 0x344763DA#32
  | 104 => 0xB4420919#32
  | 105 => 0x343CF2FA#32
  | 106 => 0xB4381D32#32
  | 107 => 0x343383CC#32
  | 108 => 0xB42F2322#32
  | 109 => 0x342AF7D2#32
  | 110 => 0xB426FEBD#32
  | 111 => 0x342334FF#32
  | 112 => 0xB41F97EA#32
  | 113 => 0x341C2500#32
  | 114 => 0xB418D9F0#32
  | 115 => 0x3415B495#32
  | 116 => 0xB412B2ED#32
  | 117 => 0x340FD31A#32
  | 118 => 0xB40D1360#32
  | 119 => 0x340A721F#32
  | 120 => 0xB407EDD1#32
  | 121 => 0x3405850C#32
  | 122 => 0xB403367C#32
  | 123 => 0x340100E3#32
  | 124 => 0xB3FDC62E#32
  | 125 => 0x33F9B800#32
  | 126 => 0xB3F5D532#32
  | 127 => 0x33F21BD6#32
  | _ => 0#32

noncomputable abbrev lit0t0_346 (i : Nat) : BitVec 32 := match i % 128 with
  | 0 => 0x33F21BD6#32
  | 1 => 0xB3EE8A1F#32
  | 2 => 0x33EB1E5A#32
  | 3 => 0xB3E7D6EF#32
  | 4 => 0x33E4B25D#32
  | 5 => 0xB3E1AF3D#32
  | 6 => 0x33DECC38#32
  | 7 => 0xB3DC0810#32
  | 8 => 0x33D96196#32
  | 9 => 0xB3D6D7AE#32
  | 10 => 0x33D4694B#32
  | 11 => 0xB3D21572#32
  | 12 => 0x33CFDB34#32
  | 13 => 0xB3CDB9B1#32
  | 14 => 0x33CBB015#32
  | 15 => 0xB3C9BD97#32
  | 16 => 0x33C7E17D#32
  | 17 => 0xB3C61B15#32
  | 18 => 0x33C469B8#32
  | 19 => 0xB3C2CCC7#32
  | 20 => 0x33C143B0#32
  | 21 => 0xB3BFCDE6#32
  | 22 => 0x33BE6AE7#32
  | 23 => 0xB3BD1A36#32
  | 24 => 0x33BBDB61#32
  | 25 => 0xB3BAADFB#32
  | 26 => 0x33B9919E#32
  | 27 => 0xB3B885EC#32
  | 28 => 0x33B78A8A#32
  | 29 => 0xB3B69F28#32
  | 30 => 0x33B5C377#32
  | 31 => 0xB3B4F732#32
  | 32 => 0x33B43A15#32
  | 33 => 0xB3B38BE5#32
  | 34 => 0x33B2EC6A#32
  | 35 => 0xB3B25B72#32
  | 36 => 0x33B1D8CF#32
  | 37 => 0xB3B16459#32
  | 38 => 0x33B0FDEA#32
  | 39 => 0xB3B0A563#32
  | 40 => 0x33B05AA9#32
  | 41 => 0xB3B01DA5#32
  | 42 => 0x33AFEE43#32
  | 43 => 0xB3AFCC75#32
  | 44 => 0x33AFB831#32
  | 45 => 0xB3AFB170#32
  | 46 => 0x33AFB831#32
  | 47 => 0xB3AFCC75#32
  | 48 => 0x33AFEE43#32
  | 49 => 0xB3B01DA5#32
  | 50 => 0x33B05AA9#32
  | 51 => 0xB3B0A563#32
  | 52 => 0x33B0FDEA#32
  | 53 => 0xB3B16459#32
  | 54 => 0x33B1D8CF#32
  | 55 => 0xB3B25B72#32
  | 56 => 0x33B2EC6A#32
  | 57 => 0xB3B38BE5#32
  | 58 => 0x33B43A15#32
  | 59 => 0xB3B4F732#32
  | 60 => 0x33B5C377#32
  | 61 => 0xB3B69F28#32
  | 62 => 0x33B78A8A#32
  | 63 => 0xB3B885EC#32
  | 64 => 0x33B9919E#32
  | 65 => 0xB3BAADFB#32
  | 66 => 0x33BBDB61#32
  | 67 => 0xB3BD1A36#32
  | 68 => 0x33BE6AE7#32
  | 69 => 0xB3BFCDE6#32
  | 70 => 0x33C143B0#32
  | 71 => 0xB3C2CCC7#32
  | 72 => 0x33C469B8#32
  | 73 => 0xB3C61B15#32
  | 74 => 0x33C7E17D#32
  | 75 => 0xB3C9BD97#32
  | 76 => 0x33CBB015#32
  | 77 => 0xB3CDB9B1#32
  | 78 => 0x33CFDB34#32
  | 79 => 0xB3D21572#32
  | 80 => 0x33D4694B#32
  | 81 => 0xB3D6D7AE#32
  | 82 => 0x33D96196#32
  | 83 => 0xB3DC0810#32
  | 84 => 0x33DECC38#32
  | 85 => 0xB3E1AF3D#32
  | 86 => 0x33E4B25D#32
  | 87 => 0xB3E7D6EF#32
  | 88 => 0x33EB1E5A#32
  | 89 => 0xB3EE8A1F#32
  | 90 => 0x33F21BD6#32
  | 91 => 0xB3F5D532#32
  | 92 => 0x33F9B800#32
  | 93 => 0xB3FDC62E#32
  | 94 => 0x340100E3#32
  | 95 => 0xB403367C#32
  | 96 => 0x3405850C#32
  | 97 => 0xB407EDD1#32
  | 98 => 0x340A721F#32
  | 99 => 0xB40D1360#32
  | 100 => 0x340FD31A#32
  | 101 => 0xB412B2ED#32
  | 102 => 0x3415B495#32
  | 103 => 0xB418D9F0#32
  | 104 => 0x341C2500#32
  | 105 => 0xB41F97EA#32
  | 106 => 0x342334FF#32
  | 107 => 0xB426FEBD#32
  | 108 => 0x342AF7D2#32
  | 109 => 0xB42F2322#32
  | 110 => 0x343383CC#32
  | 111 => 0xB4381D32#32
  | 112 => 0x343CF2FA#32
  | 113 => 0xB4420919#32
  | 114 => 0x344763DA#32
  | 115 => 0xB44D07E6#32
  | 116 => 0x3452FA51#32
  | 117 => 0xB45940A1#32
  | 118 => 0x345FE0DA#32
  | 119 => 0xB466E193#32
  | 120 => 0x346E49FF#32
  | 121 => 0xB4762200#32
  | 122 => 0x347E723F#32
  | 123 => 0xB483A221#32
  | 124 => 0x34885142#32
  | 125 => 0xB48D4C4D#32
  | 126 => 0x349299A5#32
  | 127 => 0xB4984061#32
  | _ => 0#32

noncomputable abbrev lit0t0_347 (i : Nat) : BitVec 32 := match i % 128 with
  | 0 => 0x349E485F#32
  | 1 => 0xB4A4BA5F#32
  | 2 => 0x34ABA023#32
  | 3 => 0xB4B30492#32
  | 4 => 0x34BAF3E5#32
  | 5 => 0xB4C37BD6#32
  | 6 => 0x34CCABDA#32
  | 7 => 0xB4D69568#32
  | 8 => 0x34E14C49#32
  | 9 => 0xB4ECE6F7#32
  | 10 => 0x34F97F13#32
  | 11 => 0xB50398F7#32
  | 12 => 0x350B1097#32
  | 13 => 0xB51339CD#32
  | 14 => 0x351C2B08#32
  | 15 => 0xB525FE56#32
  | 16 => 0x3530D21D#32
  | 17 => 0xB53CCA00#32
  | 18 => 0x354A0FF9#32
  | 19 => 0xB558D5BB#32
  | 20 => 0x35695670#32
  | 21 => 0xB57BD8F1#32
  | 22 => 0x3588594C#32
  | 23 => 0xB5942572#32
  | 24 => 0x35A19018#32
  | 25 => 0xB5B0E6EF#32
  | 26 => 0x35C28A3B#32
  | 27 => 0xB5D6F23A#32
  | 28 => 0x35EEB658#32
  | 29 => 0xB6054B76#32
  | 30 => 0x3615C529#32
  | 31 => 0xB6296767#32
  | 32 => 0x3641014B#32
  | 33 => 0xB65DA20C#32
  | 34 => 0x368056F2#32
  | 35 => 0xB695FBC4#32
  | 36 => 0x36B0ED61#32
  | 37 => 0xB6D29E9B#32
  | 38 => 0x36FFBDB2#32
  | 39 => 0xB692EE32#32
  | 40 => 0x391EBB1A#32
  | 41 => 0x3B12D0DF#32
  | 42 => 0x3CA0086D#32
  | 43 => 0x3DBAD58B#32
  | 44 => 0x3E6BB748#32
  | 45 => 0x3EA069FE#32
  | 46 => 0x3E6BB748#32
  | 47 => 0x3DBAD58B#32
  | 48 => 0x3CA0086D#32
  | 49 => 0x3B12D0DF#32
  | 50 => 0x391EBB1A#32
  | 51 => 0xB692EE32#32
  | 52 => 0x36FFBDB2#32
  | 53 => 0xB6D29E9B#32
  | 54 => 0x36B0ED61#32
  | 55 => 0xB695FBC4#32
  | 56 => 0x368056F2#32
  | 57 => 0xB65DA20C#32
  | 58 => 0x3641014B#32
  | 59 => 0xB6296767#32
  | 60 => 0x3615C529#32
  | 61 => 0xB6054B76#32
  | 62 => 0x35EEB658#32
  | 63 => 0xB5D6F23A#32
  | 64 => 0x35C28A3B#32
  | 65 => 0xB5B0E6EF#32
  | 66 => 0x35A19018#32
  | 67 => 0xB5942572#32
  | 68 => 0x3588594C#32
  | 69 => 0xB57BD8F1#32
  | 70 => 0x35695670#32
  | 71 => 0xB558D5BB#32
  | 72 => 0x354A0FF9#32
  | 73 => 0xB53CCA00#32
  | 74 => 0x3530D21D#32
  | 75 => 0xB525FE56#32
  | 76 => 0x351C2B08#32
  | 77 => 0xB51339CD#32
  | 78 => 0x350B1097#32
  | 79 => 0xB50398F7#32
  | 80 => 0x34F97F13#32
  | 81 => 0xB4ECE6F7#32
  | 82 => 0x34E14C49#32
  | 83 => 0xB4D69568#32
  | 84 => 0x34CCABDA#32
  | 85 => 0xB4C37BD6#32
  | 86 => 0x34BAF3E5#32
  | 87 => 0xB4B30492#32
  | 88 => 0x34ABA023#32
  | 89 => 0xB4A4BA5F#32
  | 90 => 0x349E485F#32
  | 91 => 0xB4984061#32
  | 92 => 0x349299A5#32
  | 93 => 0xB48D4C4D#32
  | 94 => 0x34885143#32
  | 95 => 0xB483A221#32
  | 96 => 0x347E723F#32
  | 97 => 0xB4762200#32
  | 98 => 0x346E49FF#32
  | 99 => 0xB466E193#32
  | 100 => 0x345FE0DA#32
  | 101 => 0xB45940A1#32
  | 102 => 0x3452FA51#32
  | 103 => 0xB44D07E6#32
  | 104 => 0x344763DA#32
  | 105 => 0xB4420919#32
  | 106 => 0x343CF2FA#32
  | 107 => 0xB4381D32#32
  | 108 => 0x343383CC#32
  | 109 => 0xB42F2322#32
  | 110 => 0x342AF7D2#32
  | 111 => 0xB426FEBD#32
  | 112 => 0x342334FF#32
  | 113 => 0xB41F97EA#32
  | 114 => 0x341C2500#32
  | 115 => 0xB418D9F0#32
  | 116 => 0x3415B495#32
  | 117 => 0xB412B2ED#32
  | 118 => 0x340FD31A#32
  | 119 => 0xB40D1360#32
  | 120 => 0x340A721F#32
  | 121 => 0xB407EDD1#32
  | 122 => 0x3405850C#32
  | 123 => 0xB403367C#32
  | 124 => 0x340100E3#32
  | 125 => 0xB3FDC62E#32
  | 126 => 0x33F9B800#32
  | 127 => 0xB3F5D532#32
  | _ => 0#32

noncomputable abbrev lit0t0_348 (i : Nat) : BitVec 32 := match i % 128 with
  | 0 => 0xB3F5D532#32
  | 1 => 0x33F21BD6#32
  | 2 => 0xB3EE8A1F#32
  | 3 => 0x33EB1E5A#32
  | 4 => 0xB3E7D6EF#32
  | 5 => 0x33E4B25D#32
  | 6 => 0xB3E1AF3D#32
  | 7 => 0x33DECC38#32
  | 8 => 0xB3DC0810#32
  | 9 => 0x33D96196#32
  | 10 => 0xB3D6D7AE#32
  | 11 => 0x33D4694B#32
  | 12 => 0xB3D21572#32
  | 13 => 0x33CFDB34#32
  | 14 => 0xB3CDB9B1#32
  | 15 => 0x33CBB015#32
  | 16 => 0xB3C9BD97#32
  | 17 => 0x33C7E17D#32
  | 18 => 0xB3C61B15#32
  | 19 => 0x33C469B8#32
  | 20 => 0xB3C2CCC7#32
  | 21 => 0x33C143B0#32
  | 22 => 0xB3BFCDE6#32
  | 23 => 0x33BE6AE7#32
  | 24 => 0xB3BD1A36#32
  | 25 => 0x33BBDB61#32
  | 26 => 0xB3BAADFB#32
  | 27 => 0x33B9919E#32
  | 28 => 0xB3B885EC#32
  | 29 => 0x33B78A8A#32
  | 30 => 0xB3B69F28#32
  | 31 => 0x33B5C377#32
  | 32 => 0xB3B4F732#32
  | 33 => 0x33B43A15#32
  | 34 => 0xB3B38BE5#32
  | 35 => 0x33B2EC6A#32
  | 36 => 0xB3B25B72#32
  | 37 => 0x33B1D8CF#32
  | 38 => 0xB3B16459#32
  | 39 => 0x33B0FDEA#32
  | 40 => 0xB3B0A563#32
  | 41 => 0x33B05AA9#32
  | 42 => 0xB3B01DA5#32
  | 43 => 0x33AFEE43#32
  | 44 => 0xB3AFCC75#32
  | 45 => 0x33AFB831#32
  | 46 => 0xB3AFB170#32
  | 47 => 0x33AFB831#32
  | 48 => 0xB3AFCC75#32
  | 49 => 0x33AFEE43#32
  | 50 => 0xB3B01DA5#32
  | 51 => 0x33B05AA9#32
  | 52 => 0xB3B0A563#32
  | 53 => 0x33B0FDEA#32
  | 54 => 0xB3B16459#32
  | 55 => 0x33B1D8CF#32
  | 56 => 0xB3B25B72#32
  | 57 => 0x33B2EC6A#32
  | 58 => 0xB3B38BE5#32
  | 59 => 0x33B43A15#32
  | 60 => 0xB3B4F732#32
  | 61 => 0x33B5C377#32
  | 62 => 0xB3B69F28#32
  | 63 => 0x33B78A8A#32
  | 64 => 0xB3B885EC#32
  | 65 => 0x33B9919E#32
  | 66 => 0xB3BAADFB#32
  | 67 => 0x33BBDB61#32
  | 68 => 0xB3BD1A36#32
  | 69 => 0x33BE6AE7#32
  | 70 => 0xB3BFCDE6#32
  | 71 => 0x33C143B0#32
  | 72 => 0xB3C2CCC7#32
  | 73 => 0x33C469B8#32
  | 74 => 0xB3C61B15#32
  | 75 => 0x33C7E17D#32
  | 76 => 0xB3C9BD97#32
  | 77 => 0x33CBB015#32
  | 78 => 0xB3CDB9B1#32
  | 79 => 0x33CFDB34#32
  | 80 => 0xB3D21572#32
  | 81 => 0x33D4694B#32
  | 82 => 0xB3D6D7AE#32
  | 83 => 0x33D96196#32
  | 84 => 0xB3DC0810#32
  | 85 => 0x33DECC38#32
  | 86 => 0xB3E1AF3D#32
  | 87 => 0x33E4B25D#32
  | 88 => 0xB3E7D6EF#32
  | 89 => 0x33EB1E5A#32
  | 90 => 0xB3EE8A1F#32
  | 91 => 0x33F21BD6#32
  | 92 => 0xB3F5D532#32
  | 93 => 0x33F9B800#32
  | 94 => 0xB3FDC62E#32
  | 95 => 0x340100E3#32
  | 96 => 0xB403367C#32
  | 97 => 0x3405850C#32
  | 98 => 0xB407EDD1#32
  | 99 => 0x340A721F#32
  | 100 => 0xB40D1360#32
  | 101 => 0x340FD31A#32
  | 102 => 0xB412B2ED#32
  | 103 => 0x3415B495#32
  | 104 => 0xB418D9F0#32
  | 105 => 0x341C2500#32
  | 106 => 0xB41F97EA#32
  | 107 => 0x342334FF#32
  | 108 => 0xB426FEBD#32
  | 109 => 0x342AF7D2#32
  | 110 => 0xB42F2322#32
  | 111 => 0x343383CC#32
  | 112 => 0xB4381D32#32
  | 113 => 0x343CF2FA#32
  | 114 => 0xB4420919#32
  | 115 => 0x344763DA#32
  | 116 => 0xB44D07E6#32
  | 117 => 0x3452FA51#32
  | 118 => 0xB45940A1#32
  | 119 => 0x345FE0DA#32
  | 120 => 0xB466E193#32
  | 121 => 0x346E49FF#32
  | 122 => 0xB4762200#32
  | 123 => 0x347E723F#32
  | 124 => 0xB483A221#32
  | 125 => 0x34885142#32
  | 126 => 0xB48D4C4D#32
  | 127 => 0x349299A5#32
  | _ => 0#32

noncomputable abbrev lit0t0_349 (i : Nat) : BitVec 32 := match i % 128 with
  | 0 => 0xB4984061#32
  | 1 => 0x349E485F#32
  | 2 => 0xB4A4BA5F#32
  | 3 => 0x34ABA023#32
  | 4 => 0xB4B30492#32
  | 5 => 0x34BAF3E5#32
  | 6 => 0xB4C37BD6#32
  | 7 => 0x34CCABDA#32
  | 8 => 0xB4D69568#32
  | 9 => 0x34E14C49#32
  | 10 => 0xB4ECE6F7#32
  | 11 => 0x34F97F13#32
  | 12 => 0xB50398F7#32
  | 13 => 0x350B1097#32
  | 14 => 0xB51339CD#32
  | 15 => 0x351C2B08#32
  | 16 => 0xB525FE56#32
  | 17 => 0x3530D21D#32
  | 18 => 0xB53CCA00#32
  | 19 => 0x354A0FF9#32
  | 20 => 0xB558D5BB#32
  | 21 => 0x35695670#32
  | 22 => 0xB57BD8F1#32
  | 23 => 0x3588594C#32
  | 24 => 0xB5942572#32
  | 25 => 0x35A19018#32
  | 26 => 0xB5B0E6EF#32
  | 27 => 0x35C28A3B#32
  | 28 => 0xB5D6F23A#32
  | 29 => 0x35EEB658#32
  | 30 => 0xB6054B76#32
  | 31 => 0x3615C529#32
  | 32 => 0xB6296767#32
  | 33 => 0x3641014B#32
  | 34 => 0xB65DA20C#32
  | 35 => 0x368056F2#32
  | 36 => 0xB695FBC4#32
  | 37 => 0x36B0ED61#32
  | 38 => 0xB6D29E9B#32
  | 39 => 0x36FFBDB2#32
  | 40 => 0xB692EE32#32
  | 41 => 0x391EBB1A#32
  | 42 => 0x3B12D0DF#32
  | 43 => 0x3CA0086D#32
  | 44 => 0x3DBAD58B#32
  | 45 => 0x3E6BB748#32
  | 46 => 0x3EA069FE#32
  | 47 => 0x3E6BB748#32
  | 48 => 0x3DBAD58B#32
  | 49 => 0x3CA0086D#32
  | 50 => 0x3B12D0DF#32
  | 51 => 0x391EBB1A#32
  | 52 => 0xB692EE32#32
  | 53 => 0x36FFBDB2#32
  | 54 => 0xB6D29E9B#32
  | 55 => 0x36B0ED61#32
  | 56 => 0xB695FBC4#32
  | 57 => 0x368056F2#32
  | 58 => 0xB65DA20C#32
  | 59 => 0x3641014B#32
  | 60 => 0xB6296767#32
  | 61 => 0x3615C529#32
  | 62 => 0xB6054B76#32
  | 63 => 0x35EEB658#32
  | 64 => 0xB5D6F23A#32
  | 65 => 0x35C28A3B#32
  | 66 => 0xB5B0E6EF#32
  | 67 => 0x35A19018#32
  | 68 => 0xB5942572#32
  | 69 => 0x3588594C#32
  | 70 => 0xB57BD8F1#32
  | 71 => 0x35695670#32
  | 72 => 0xB558D5BB#32
  | 73 => 0x354A0FF9#32
  | 74 => 0xB53CCA00#32
  | 75 => 0x3530D21D#32
  | 76 => 0xB525FE56#32
  | 77 => 0x351C2B08#32
  | 78 => 0xB51339CD#32
  | 79 => 0x350B1097#32
  | 80 => 0xB50398F7#32
  | 81 => 0x34F97F13#32
  | 82 => 0xB4ECE6F7#32
  | 83 => 0x34E14C49#32
  | 84 => 0xB4D69568#32
  | 85 => 0x34CCABDA#32
  | 86 => 0xB4C37BD6#32
  | 87 => 0x34BAF3E5#32
  | 88 => 0xB4B30492#32
  | 89 => 0x34ABA023#32
  | 90 => 0xB4A4BA5F#32
  | 91 => 0x349E485F#32
  | 92 => 0xB4984061#32
  | 93 => 0x349299A5#32
  | 94 => 0xB48D4C4D#32
  | 95 => 0x34885143#32
  | 96 => 0xB483A221#32
  | 97 => 0x347E723F#32
  | 98 => 0xB4762200#32
  | 99 => 0x346E49FF#32
  | 100 => 0xB466E193#32
  | 101 => 0x345FE0DA#32
  | 102 => 0xB45940A1#32
  | 103 => 0x3452FA51#32
  | 104 => 0xB44D07E6#32
  | 105 => 0x344763DA#32
  | 106 => 0xB4420919#32
  | 107 => 0x343CF2FA#32
  | 108 => 0xB4381D32#32
  | 109 => 0x343383CC#32
  | 110 => 0xB42F2322#32
  | 111 => 0x342AF7D2#32
  | 112 => 0xB426FEBD#32
  | 113 => 0x342334FF#32
  | 114 => 0xB41F97EA#32
  | 115 => 0x341C2500#32
  | 116 => 0xB418D9F0#32
  | 117 => 0x3415B495#32
  | 118 => 0xB412B2ED#32
  | 119 => 0x340FD31A#32
  | 120 => 0xB40D1360#32
  | 121 => 0x340A721F#32
  | 122 => 0xB407EDD1#32
  | 123 => 0x3405850C#32
  | 124 => 0xB403367C#32
  | 125 => 0x340100E3#32
  | 126 => 0xB3FDC62E#32
  | 127 => 0x33F9B800#32
  | _ => 0#32

noncomputable abbrev lit0t0_350 (i : Nat) : BitVec 32 := match i % 128 with
  | 0 => 0x33F9B800#32
  | 1 => 0xB3F5D532#32
  | 2 => 0x33F21BD6#32
  | 3 => 0xB3EE8A1F#32
  | 4 => 0x33EB1E5A#32
  | 5 => 0xB3E7D6EF#32
  | 6 => 0x33E4B25D#32
  | 7 => 0xB3E1AF3D#32
  | 8 => 0x33DECC38#32
  | 9 => 0xB3DC0810#32
  | 10 => 0x33D96196#32
  | 11 => 0xB3D6D7AE#32
  | 12 => 0x33D4694B#32
  | 13 => 0xB3D21572#32
  | 14 => 0x33CFDB34#32
  | 15 => 0xB3CDB9B1#32
  | 16 => 0x33CBB015#32
  | 17 => 0xB3C9BD97#32
  | 18 => 0x33C7E17D#32
  | 19 => 0xB3C61B15#32
  | 20 => 0x33C469B8#32
  | 21 => 0xB3C2CCC7#32
  | 22 => 0x33C143B0#32
  | 23 => 0xB3BFCDE6#32
  | 24 => 0x33BE6AE7#32
  | 25 => 0xB3BD1A36#32
  | 26 => 0x33BBDB61#32
  | 27 => 0xB3BAADFB#32
  | 28 => 0x33B9919E#32
  | 29 => 0xB3B885EC#32
  | 30 => 0x33B78A8A#32
  | 31 => 0xB3B69F28#32
  | 32 => 0x33B5C377#32
  | 33 => 0xB3B4F732#32
  | 34 => 0x33B43A15#32
  | 35 => 0xB3B38BE5#32
  | 36 => 0x33B2EC6A#32
  | 37 => 0xB3B25B72#32
  | 38 => 0x33B1D8CF#32
  | 39 => 0xB3B16459#32
  | 40 => 0x33B0FDEA#32
  | 41 => 0xB3B0A563#32
  | 42 => 0x33B05AA9#32
  | 43 => 0xB3B01DA5#32
  | 44 => 0x33AFEE43#32
  | 45 => 0xB3AFCC75#32
  | 46 => 0x33AFB831#32
  | 47 => 0xB3AFB170#32
  | 48 => 0x33AFB831#32
  | 49 => 0xB3AFCC75#32
  | 50 => 0x33AFEE43#32
  | 51 => 0xB3B01DA5#32
  | 52 => 0x33B05AA9#32
  | 53 => 0xB3B0A563#32
  | 54 => 0x33B0FDEA#32
  | 55 => 0xB3B16459#32
  | 56 => 0x33B1D8CF#32
  | 57 => 0xB3B25B72#32
  | 58 => 0x33B2EC6A#32
  | 59 => 0xB3B38BE5#32
  | 60 => 0x33B43A15#32
  | 61 => 0xB3B4F732#32
  | 62 => 0x33B5C377#32
  | 63 => 0xB3B69F28#32
  | 64 => 0x33B78A8A#32
  | 65 => 0xB3B885EC#32
  | 66 => 0x33B9919E#32
  | 67 => 0xB3BAADFB#32
  | 68 => 0x33BBDB61#32
  | 69 => 0xB3BD1A36#32
  | 70 => 0x33BE6AE7#32
  | 71 => 0xB3BFCDE6#32
  | 72 => 0x33C143B0#32
  | 73 => 0xB3C2CCC7#32
  | 74 => 0x33C469B8#32
  | 75 => 0xB3C61B15#32
  | 76 => 0x33C7E17D#32
  | 77 => 0xB3C9BD97#32
  | 78 => 0x33CBB015#32
  | 79 => 0xB3CDB9B1#32
  | 80 => 0x33CFDB34#32
  | 81 => 0xB3D21572#32
  | 82 => 0x33D4694B#32
  | 83 => 0xB3D6D7AE#32
  | 84 => 0x33D96196#32
  | 85 => 0xB3DC0810#32
  | 86 => 0x33DECC38#32
  | 87 => 0xB3E1AF3D#32
  | 88 => 0x33E4B25D#32
  | 89 => 0xB3E7D6EF#32
  | 90 => 0x33EB1E5A#32
  | 91 => 0xB3EE8A1F#32
  | 92 => 0x33F21BD6#32
  | 93 => 0xB3F5D532#32
  | 94 => 0x33F9B800#32
  | 95 => 0xB3FDC62E#32
  | 96 => 0x340100E3#32
  | 97 => 0xB403367C#32
  | 98 => 0x3405850C#32
  | 99 => 0xB407EDD1#32
  | 100 => 0x340A721F#32
  | 101 => 0xB40D1360#32
  | 102 => 0x340FD31A#32
  | 103 => 0xB412B2ED#32
  | 104 => 0x3415B495#32
  | 105 => 0xB418D9F0#32
  | 106 => 0x341C2500#32
  | 107 => 0xB41F97EA#32
  | 108 => 0x342334FF#32
  | 109 => 0xB426FEBD#32
  | 110 => 0x342AF7D2#32
  | 111 => 0xB42F2322#32
  | 112 => 0x343383CC#32
  | 113 => 0xB4381D32#32
  | 114 => 0x343CF2FA#32
  | 115 => 0xB4420919#32
  | 116 => 0x344763DA#32
  | 117 => 0xB44D07E6#32
  | 118 => 0x3452FA51#32
  | 119 => 0xB45940A1#32
  | 120 => 0x345FE0DA#32
  | 121 => 0xB466E193#32
  | 122 => 0x346E49FF#32
  | 123 => 0xB4762200#32
  | 124 => 0x347E723F#32
  | 125 => 0xB483A221#32
  | 126 => 0x34885143#32
  | 127 => 0xB48D4C4D#32
  | _ => 0#32

noncomputable abbrev lit0t0_351 (i : Nat) : BitVec 32 := match i % 128 with
  | 0 => 0x349299A5#32
  | 1 => 0xB4984061#32
  | 2 => 0x349E485F#32
  | 3 => 0xB4A4BA5F#32
  | 4 => 0x34ABA023#32
  | 5 => 0xB4B30492#32
  | 6 => 0x34BAF3E5#32
  | 7 => 0xB4C37BD6#32
  | 8 => 0x34CCABDA#32
  | 9 => 0xB4D69568#32
  | 10 => 0x34E14C49#32
  | 11 => 0xB4ECE6F7#32
  | 12 => 0x34F97F13#32
  | 13 => 0xB50398F7#32
  | 14 => 0x350B1097#32
  | 15 => 0xB51339CD#32
  | 16 => 0x351C2B08#32
  | 17 => 0xB525FE56#32
  | 18 => 0x3530D21D#32
  | 19 => 0xB53CCA00#32
  | 20 => 0x354A0FF9#32
  | 21 => 0xB558D5BB#32
  | 22 => 0x35695670#32
  | 23 => 0xB57BD8F1#32
  | 24 => 0x3588594C#32
  | 25 => 0xB5942572#32
  | 26 => 0x35A19018#32
  | 27 => 0xB5B0E6EF#32
  | 28 => 0x35C28A3B#32
  | 29 => 0xB5D6F23A#32
  | 30 => 0x35EEB658#32
  | 31 => 0xB6054B76#32
  | 32 => 0x3615C529#32
  | 33 => 0xB6296767#32
  | 34 => 0x3641014B#32
  | 35 => 0xB65DA20C#32
  | 36 => 0x368056F2#32
  | 37 => 0xB695FBC4#32
  | 38 => 0x36B0ED61#32
  | 39 => 0xB6D29E9B#32
  | 40 => 0x36FFBDB2#32
  | 41 => 0xB692EE32#32
  | 42 => 0x391EBB1A#32
  | 43 => 0x3B12D0DF#32
  | 44 => 0x3CA0086D#32
  | 45 => 0x3DBAD58B#32
  | 46 => 0x3E6BB748#32
  | 47 => 0x3EA069FE#32
  | 48 => 0x3E6BB748#32
  | 49 => 0x3DBAD58B#32
  | 50 => 0x3CA0086D#32
  | 51 => 0x3B12D0DF#32
  | 52 => 0x391EBB1A#32
  | 53 => 0xB692EE32#32
  | 54 => 0x36FFBDB2#32
  | 55 => 0xB6D29E9B#32
  | 56 => 0x36B0ED61#32
  | 57 => 0xB695FBC4#32
  | 58 => 0x368056F2#32
  | 59 => 0xB65DA20C#32
  | 60 => 0x3641014B#32
  | 61 => 0xB6296767#32
  | 62 => 0x3615C529#32
  | 63 => 0xB6054B76#32
  | 64 => 0x35EEB658#32
  | 65 => 0xB5D6F23A#32
  | 66 => 0x35C28A3B#32
  | 67 => 0xB5B0E6EF#32
  | 68 => 0x35A19018#32
  | 69 => 0xB5942572#32
  | 70 => 0x3588594C#32
  | 71 => 0xB57BD8F1#32
  | 72 => 0x35695670#32
  | 73 => 0xB558D5BB#32
  | 74 => 0x354A0FF9#32
  | 75 => 0xB53CCA00#32
  | 76 => 0x3530D21D#32
  | 77 => 0xB525FE56#32
  | 78 => 0x351C2B08#32
  | 79 => 0xB51339CD#32
  | 80 => 0x350B1097#32
  | 81 => 0xB50398F7#32
  | 82 => 0x34F97F13#32
  | 83 => 0xB4ECE6F7#32
  | 84 => 0x34E14C49#32
  | 85 => 0xB4D69568#32
  | 86 => 0x34CCABDA#32
  | 87 => 0xB4C37BD6#32
  | 88 => 0x34BAF3E5#32
  | 89 => 0xB4B30492#32
  | 90 => 0x34ABA023#32
  | 91 => 0xB4A4BA5F#32
  | 92 => 0x349E485F#32
  | 93 => 0xB4984061#32
  | 94 => 0x349299A5#32
  | 95 => 0xB48D4C4D#32
  | 96 => 0x34885143#32
  | 97 => 0xB483A221#32
  | 98 => 0x347E723F#32
  | 99 => 0xB4762200#32
  | 100 => 0x346E49FF#32
  | 101 => 0xB466E193#32
  | 102 => 0x345FE0DA#32
  | 103 => 0xB45940A1#32
  | 104 => 0x3452FA51#32
  | 105 => 0xB44D07E6#32
  | 106 => 0x344763DA#32
  | 107 => 0xB4420919#32
  | 108 => 0x343CF2FA#32
  | 109 => 0xB4381D32#32
  | 110 => 0x343383CC#32
  | 111 => 0xB42F2322#32
  | 112 => 0x342AF7D2#32
  | 113 => 0xB426FEBD#32
  | 114 => 0x342334FF#32
  | 115 => 0xB41F97EA#32
  | 116 => 0x341C2500#32
  | 117 => 0xB418D9F0#32
  | 118 => 0x3415B495#32
  | 119 => 0xB412B2ED#32
  | 120 => 0x340FD31A#32
  | 121 => 0xB40D1360#32
  | 122 => 0x340A721F#32
  | 123 => 0xB407EDD1#32
  | 124 => 0x3405850C#32
  | 125 => 0xB403367C#32
  | 126 => 0x340100E3#32
  | 127 => 0xB3FDC62E#32
  | _ => 0#32

noncomputable abbrev lit0t0_352 (i : Nat) : BitVec 32 := match i % 128 with
  | 0 => 0xB3FDC62E#32
  | 1 => 0x33F9B800#32
  | 2 => 0xB3F5D532#32
  | 3 => 0x33F21BD6#32
  | 4 => 0xB3EE8A1F#32
  | 5 => 0x33EB1E5A#32
  | 6 => 0xB3E7D6EF#32
  | 7 => 0x33E4B25D#32
  | 8 => 0xB3E1AF3D#32
  | 9 => 0x33DECC38#32
  | 10 => 0xB3DC0810#32
  | 11 => 0x33D96196#32
  | 12 => 0xB3D6D7AE#32
  | 13 => 0x33D4694B#32
  | 14 => 0xB3D21572#32
  | 15 => 0x33CFDB34#32
  | 16 => 0xB3CDB9B1#32
  | 17 => 0x33CBB015#32
  | 18 => 0xB3C9BD97#32
  | 19 => 0x33C7E17D#32
  | 20 => 0xB3C61B15#32
  | 21 => 0x33C469B8#32
  | 22 => 0xB3C2CCC7#32
  | 23 => 0x33C143B0#32
  | 24 => 0xB3BFCDE6#32
  | 25 => 0x33BE6AE7#32
  | 26 => 0xB3BD1A36#32
  | 27 => 0x33BBDB61#32
  | 28 => 0xB3BAADFB#32
  | 29 => 0x33B9919E#32
  | 30 => 0xB3B885EC#32
  | 31 => 0x33B78A8A#32
  | 32 => 0xB3B69F28#32
  | 33 => 0x33B5C377#32
  | 34 => 0xB3B4F732#32
  | 35 => 0x33B43A15#32
  | 36 => 0xB3B38BE5#32
  | 37 => 0x33B2EC6A#32
  | 38 => 0xB3B25B72#32
  | 39 => 0x33B1D8CF#32
  | 40 => 0xB3B16459#32
  | 41 => 0x33B0FDEA#32
  | 42 => 0xB3B0A563#32
  | 43 => 0x33B05AA9#32
  | 44 => 0xB3B01DA5#32
  | 45 => 0x33AFEE43#32
  | 46 => 0xB3AFCC75#32
  | 47 => 0x33AFB831#32
  | 48 => 0xB3AFB170#32
  | 49 => 0x33AFB831#32
  | 50 => 0xB3AFCC75#32
  | 51 => 0x33AFEE43#32
  | 52 => 0xB3B01DA5#32
  | 53 => 0x33B05AA9#32
  | 54 => 0xB3B0A563#32
  | 55 => 0x33B0FDEA#32
  | 56 => 0xB3B16459#32
  | 57 => 0x33B1D8CF#32
  | 58 => 0xB3B25B72#32
  | 59 => 0x33B2EC6A#32
  | 60 => 0xB3B38BE5#32
  | 61 => 0x33B43A15#32
  | 62 => 0xB3B4F732#32
  | 63 => 0x33B5C377#32
  | 64 => 0xB3B69F28#32
  | 65 => 0x33B78A8A#32
  | 66 => 0xB3B885EC#32
  | 67 => 0x33B9919E#32
  | 68 => 0xB3BAADFB#32
  | 69 => 0x33BBDB61#32
  | 70 => 0xB3BD1A36#32
  | 71 => 0x33BE6AE7#32
  | 72 => 0xB3BFCDE6#32
  | 73 => 0x33C143B0#32
  | 74 => 0xB3C2CCC7#32
  | 75 => 0x33C469B8#32
  | 76 => 0xB3C61B15#32
  | 77 => 0x33C7E17D#32
  | 78 => 0xB3C9BD97#32
  | 79 => 0x33CBB015#32
  | 80 => 0xB3CDB9B1#32
  | 81 => 0x33CFDB34#32
  | 82 => 0xB3D21572#32
  | 83 => 0x33D4694B#32
  | 84 => 0xB3D6D7AE#32
  | 85 => 0x33D96196#32
  | 86 => 0xB3DC0810#32
  | 87 => 0x33DECC38#32
  | 88 => 0xB3E1AF3D#32
  | 89 => 0x33E4B25D#32
  | 90 => 0xB3E7D6EF#32
  | 91 => 0x33EB1E5A#32
  | 92 => 0xB3EE8A1F#32
  | 93 => 0x33F21BD6#32
  | 94 => 0xB3F5D532#32
  | 95 => 0x33F9B800#32
  | 96 => 0xB3FDC62E#32
  | 97 => 0x340100E3#32
  | 98 => 0xB403367C#32
  | 99 => 0x3405850C#32
  | 100 => 0xB407EDD1#32
  | 101 => 0x340A721F#32
  | 102 => 0xB40D1360#32
  | 103 => 0x340FD31A#32
  | 104 => 0xB412B2ED#32
  | 105 => 0x3415B495#32
  | 106 => 0xB418D9F0#32
  | 107 => 0x341C2500#32
  | 108 => 0xB41F97EA#32
  | 109 => 0x342334FF#32
  | 110 => 0xB426FEBD#32
  | 111 => 0x342AF7D2#32
  | 112 => 0xB42F2322#32
  | 113 => 0x343383CC#32
  | 114 => 0xB4381D32#32
  | 115 => 0x343CF2FA#32
  | 116 => 0xB4420919#32
  | 117 => 0x344763DA#32
  | 118 => 0xB44D07E6#32
  | 119 => 0x3452FA51#32
  | 120 => 0xB45940A1#32
  | 121 => 0x345FE0DA#32
  | 122 => 0xB466E193#32
  | 123 => 0x346E49FF#32
  | 124 => 0xB4762200#32
  | 125 => 0x347E723F#32
  | 126 => 0xB483A221#32
  | 127 => 0x34885143#32
  | _ => 0#32

noncomputable abbrev lit0t0_353 (i : Nat) : BitVec 32 := match i % 128 with
  | 0 => 0xB48D4C4D#32
  | 1 => 0x349299A5#32
  | 2 => 0xB4984061#32
  | 3 => 0x349E485F#32
  | 4 => 0xB4A4BA5F#32
  | 5 => 0x34ABA023#32
  | 6 => 0xB4B30492#32
  | 7 => 0x34BAF3E5#32
  | 8 => 0xB4C37BD6#32
  | 9 => 0x34CCABDA#32
  | 10 => 0xB4D69568#32
  | 11 => 0x34E14C49#32
  | 12 => 0xB4ECE6F7#32
  | 13 => 0x34F97F13#32
  | 14 => 0xB50398F7#32
  | 15 => 0x350B1097#32
  | 16 => 0xB51339CD#32
  | 17 => 0x351C2B08#32
  | 18 => 0xB525FE56#32
  | 19 => 0x3530D21D#32
  | 20 => 0xB53CCA00#32
  | 21 => 0x354A0FF9#32
  | 22 => 0xB558D5BB#32
  | 23 => 0x35695670#32
  | 24 => 0xB57BD8F1#32
  | 25 => 0x3588594C#32
  | 26 => 0xB5942572#32
  | 27 => 0x35A19018#32
  | 28 => 0xB5B0E6EF#32
  | 29 => 0x35C28A3B#32
  | 30 => 0xB5D6F23A#32
  | 31 => 0x35EEB658#32
  | 32 => 0xB6054B76#32
  | 33 => 0x3615C529#32
  | 34 => 0xB6296767#32
  | 35 => 0x3641014B#32
  | 36 => 0xB65DA20C#32
  | 37 => 0x368056F2#32
  | 38 => 0xB695FBC4#32
  | 39 => 0x36B0ED61#32
  | 40 => 0xB6D29E9B#32
  | 41 => 0x36FFBDB2#32
  | 42 => 0xB692EE32#32
  | 43 => 0x391EBB1A#32
  | 44 => 0x3B12D0DF#32
  | 45 => 0x3CA0086D#32
  | 46 => 0x3DBAD58B#32
  | 47 => 0x3E6BB748#32
  | 48 => 0x3EA069FE#32
  | 49 => 0x3E6BB748#32
  | 50 => 0x3DBAD58B#32
  | 51 => 0x3CA0086D#32
  | 52 => 0x3B12D0DF#32
  | 53 => 0x391EBB1A#32
  | 54 => 0xB692EE32#32
  | 55 => 0x36FFBDB2#32
  | 56 => 0xB6D29E9B#32
  | 57 => 0x36B0ED61#32
  | 58 => 0xB695FBC4#32
  | 59 => 0x368056F2#32
  | 60 => 0xB65DA20C#32
  | 61 => 0x3641014B#32
  | 62 => 0xB6296767#32
  | 63 => 0x3615C529#32
  | 64 => 0xB6054B76#32
  | 65 => 0x35EEB658#32
  | 66 => 0xB5D6F23A#32
  | 67 => 0x35C28A3B#32
  | 68 => 0xB5B0E6EF#32
  | 69 => 0x35A19018#32
  | 70 => 0xB5942572#32
  | 71 => 0x3588594C#32
  | 72 => 0xB57BD8F1#32
  | 73 => 0x35695670#32
  | 74 => 0xB558D5BB#32
  | 75 => 0x354A0FF9#32
  | 76 => 0xB53CCA00#32
  | 77 => 0x3530D21D#32
  | 78 => 0xB525FE56#32
  | 79 => 0x351C2B08#32
  | 80 => 0xB51339CD#32
  | 81 => 0x350B1097#32
  | 82 => 0xB50398F7#32
  | 83 => 0x34F97F13#32
  | 84 => 0xB4ECE6F7#32
  | 85 => 0x34E14C49#32
  | 86 => 0xB4D69568#32
  | 87 => 0x34CCABDA#32
  | 88 => 0xB4C37BD6#32
  | 89 => 0x34BAF3E5#32
  | 90 => 0xB4B30492#32
  | 91 => 0x34ABA023#32
  | 92 => 0xB4A4BA5F#32
  | 93 => 0x349E485F#32
  | 94 => 0xB4984061#32
  | 95 => 0x349299A5#32
  | 96 => 0xB48D4C4D#32
  | 97 => 0x34885143#32
  | 98 => 0xB483A221#32
  | 99 => 0x347E723F#32
  | 100 => 0xB4762200#32
  | 101 => 0x346E49FF#32
  | 102 => 0xB466E193#32
  | 103 => 0x345FE0DA#32
  | 104 => 0xB45940A1#32
  | 105 => 0x3452FA51#32
  | 106 => 0xB44D07E6#32
  | 107 => 0x344763DA#32
  | 108 => 0xB4420919#32
  | 109 => 0x343CF2FA#32
  | 110 => 0xB4381D32#32
  | 111 => 0x343383CC#32
  | 112 => 0xB42F2322#32
  | 113 => 0x342AF7D2#32
  | 114 => 0xB426FEBD#32
  | 115 => 0x342334FF#32
  | 116 => 0xB41F97EA#32
  | 117 => 0x341C2500#32
  | 118 => 0xB418D9F0#32
  | 119 => 0x3415B495#32
  | 120 => 0xB412B2ED#32
  | 121 => 0x340FD31A#32
  | 122 => 0xB40D1360#32
  | 123 => 0x340A721F#32
  | 124 => 0xB407EDD1#32
  | 125 => 0x3405850C#32
  | 126 => 0xB403367C#32
  | 127 => 0x340100E3#32
  | _ => 0#32

noncomputable abbrev lit0t0_354 (i : Nat) : BitVec 32 := match i % 128 with
  | 0 => 0x340100E3#32
  | 1 => 0xB3FDC62E#32
  | 2 => 0x33F9B800#32
  | 3 => 0xB3F5D532#32
  | 4 => 0x33F21BD6#32
  | 5 => 0xB3EE8A1F#32
  | 6 => 0x33EB1E5A#32
  | 7 => 0xB3E7D6EF#32
  | 8 => 0x33E4B25D#32
  | 9 => 0xB3E1AF3D#32
  | 10 => 0x33DECC38#32
  | 11 => 0xB3DC0810#32
  | 12 => 0x33D96196#32
  | 13 => 0xB3D6D7AE#32
  | 14 => 0x33D4694B#32
  | 15 => 0xB3D21572#32
  | 16 => 0x33CFDB34#32
  | 17 => 0xB3CDB9B1#32
  | 18 => 0x33CBB015#32
  | 19 => 0xB3C9BD97#32
  | 20 => 0x33C7E17D#32
  | 21 => 0xB3C61B15#32
  | 22 => 0x33C469B8#32
  | 23 => 0xB3C2CCC7#32
  | 24 => 0x33C143B0#32
  | 25 => 0xB3BFCDE6#32
  | 26 => 0x33BE6AE7#32
  | 27 => 0xB3BD1A36#32
  | 28 => 0x33BBDB61#32
  | 29 => 0xB3BAADFB#32
  | 30 => 0x33B9919E#32
  | 31 => 0xB3B885EC#32
  | 32 => 0x33B78A8A#32
  | 33 => 0xB3B69F28#32
  | 34 => 0x33B5C377#32
  | 35 => 0xB3B4F732#32
  | 36 => 0x33B43A15#32
  | 37 => 0xB3B38BE5#32
  | 38 => 0x33B2EC6A#32
  | 39 => 0xB3B25B72#32
  | 40 => 0x33B1D8CF#32
  | 41 => 0xB3B16459#32
  | 42 => 0x33B0FDEA#32
  | 43 => 0xB3B0A563#32
  | 44 => 0x33B05AA9#32
  | 45 => 0xB3B01DA5#32
  | 46 => 0x33AFEE43#32
  | 47 => 0xB3AFCC75#32
  | 48 => 0x33AFB831#32
  | 49 => 0xB3AFB170#32
  | 50 => 0x33AFB831#32
  | 51 => 0xB3AFCC75#32
  | 52 => 0x33AFEE43#32
  | 53 => 0xB3B01DA5#32
  | 54 => 0x33B05AA9#32
  | 55 => 0xB3B0A563#32
  | 56 => 0x33B0FDEA#32
  | 57 => 0xB3B16459#32
  | 58 => 0x33B1D8CF#32
  | 59 => 0xB3B25B72#32
  | 60 => 0x33B2EC6A#32
  | 61 => 0xB3B38BE5#32
  | 62 => 0x33B43A15#32
  | 63 => 0xB3B4F732#32
  | 64 => 0x33B5C377#32
  | 65 => 0xB3B69F28#32
  | 66 => 0x33B78A8A#32
  | 67 => 0xB3B885EC#32
  | 68 => 0x33B9919E#32
  | 69 => 0xB3BAADFB#32
  | 70 => 0x33BBDB61#32
  | 71 => 0xB3BD1A36#32
  | 72 => 0x33BE6AE7#32
  | 73 => 0xB3BFCDE6#32
  | 74 => 0x33C143B0#32
  | 75 => 0xB3C2CCC7#32
  | 76 => 0x33C469B8#32
  | 77 => 0xB3C61B15#32
  | 78 => 0x33C7E17D#32
  | 79 => 0xB3C9BD97#32
  | 80 => 0x33CBB015#32
  | 81 => 0xB3CDB9B1#32
  | 82 => 0x33CFDB34#32
  | 83 => 0xB3D21572#32
  | 84 => 0x33D4694B#32
  | 85 => 0xB3D6D7AE#32
  | 86 => 0x33D96196#32
  | 87 => 0xB3DC0810#32
  | 88 => 0x33DECC38#32
  | 89 => 0xB3E1AF3D#32
  | 90 => 0x33E4B25D#32
  | 91 => 0xB3E7D6EF#32
  | 92 => 0x33EB1E5A#32
  | 93 => 0xB3EE8A1F#32
  | 94 => 0x33F21BD6#32
  | 95 => 0xB3F5D532#32
  | 96 => 0x33F9B800#32
  | 97 => 0xB3FDC62E#32
  | 98 => 0x340100E3#32
  | 99 => 0xB403367C#32
  | 100 => 0x3405850C#32
  | 101 => 0xB407EDD1#32
  | 102 => 0x340A721F#32
  | 103 => 0xB40D1360#32
  | 104 => 0x340FD31A#32
  | 105 => 0xB412B2ED#32
  | 106 => 0x3415B495#32
  | 107 => 0xB418D9F0#32
  | 108 => 0x341C2500#32
  | 109 => 0xB41F97EA#32
  | 110 => 0x342334FF#32
  | 111 => 0xB426FEBD#32
  | 112 => 0x342AF7D2#32
  | 113 => 0xB42F2322#32
  | 114 => 0x343383CC#32
  | 115 => 0xB4381D32#32
  | 116 => 0x343CF2FA#32
  | 117 => 0xB4420919#32
  | 118 => 0x344763DA#32
  | 119 => 0xB44D07E6#32
  | 120 => 0x3452FA51#32
  | 121 => 0xB45940A1#32
  | 122 => 0x345FE0DA#32
  | 123 => 0xB466E193#32
  | 124 => 0x346E49FF#32
  | 125 => 0xB4762200#32
  | 126 => 0x347E723F#32
  | 127 => 0xB483A221#32
  | _ => 0#32

noncomputable abbrev lit0t0_355 (i : Nat) : BitVec 32 := match i % 128 with
  | 0 => 0x34885143#32
  | 1 => 0xB48D4C4D#32
  | 2 => 0x349299A5#32
  | 3 => 0xB4984061#32
  | 4 => 0x349E485F#32
  | 5 => 0xB4A4BA5F#32
  | 6 => 0x34ABA023#32
  | 7 => 0xB4B30492#32
  | 8 => 0x34BAF3E5#32
  | 9 => 0xB4C37BD6#32
  | 10 => 0x34CCABDA#32
  | 11 => 0xB4D69568#32
  | 12 => 0x34E14C49#32
  | 13 => 0xB4ECE6F7#32
  | 14 => 0x34F97F13#32
  | 15 => 0xB50398F7#32
  | 16 => 0x350B1097#32
  | 17 => 0xB51339CD#32
  | 18 => 0x351C2B08#32
  | 19 => 0xB525FE56#32
  | 20 => 0x3530D21D#32
  | 21 => 0xB53CCA00#32
  | 22 => 0x354A0FF9#32
  | 23 => 0xB558D5BB#32
  | 24 => 0x35695670#32
  | 25 => 0xB57BD8F1#32
  | 26 => 0x3588594C#32
  | 27 => 0xB5942572#32
  | 28 => 0x35A19018#32
  | 29 => 0xB5B0E6EF#32
  | 30 => 0x35C28A3B#32
  | 31 => 0xB5D6F23A#32
  | 32 => 0x35EEB658#32
  | 33 => 0xB6054B76#32
  | 34 => 0x3615C529#32
  | 35 => 0xB6296767#32
  | 36 => 0x3641014B#32
  | 37 => 0xB65DA20C#32
  | 38 => 0x368056F2#32
  | 39 => 0xB695FBC4#32
  | 40 => 0x36B0ED61#32
  | 41 => 0xB6D29E9B#32
  | 42 => 0x36FFBDB2#32
  | 43 => 0xB692EE32#32
  | 44 => 0x391EBB1A#32
  | 45 => 0x3B12D0DF#32
  | 46 => 0x3CA0086D#32
  | 47 => 0x3DBAD58B#32
  | 48 => 0x3E6BB748#32
  | 49 => 0x3EA069FE#32
  | 50 => 0x3E6BB748#32
  | 51 => 0x3DBAD58B#32
  | 52 => 0x3CA0086D#32
  | 53 => 0x3B12D0DF#32
  | 54 => 0x391EBB1A#32
  | 55 => 0xB692EE32#32
  | 56 => 0x36FFBDB2#32
  | 57 => 0xB6D29E9B#32
  | 58 => 0x36B0ED61#32
  | 59 => 0xB695FBC4#32
  | 60 => 0x368056F2#32
  | 61 => 0xB65DA20C#32
  | 62 => 0x3641014B#32
  | 63 => 0xB6296767#32
  | 64 => 0x3615C529#32
  | 65 => 0xB6054B76#32
  | 66 => 0x35EEB658#32
  | 67 => 0xB5D6F23A#32
  | 68 => 0x35C28A3B#32
  | 69 => 0xB5B0E6EF#32
  | 70 => 0x35A19018#32
  | 71 => 0xB5942572#32
  | 72 => 0x3588594C#32
  | 73 => 0xB57BD8F1#32
  | 74 => 0x35695670#32
  | 75 => 0xB558D5BB#32
  | 76 => 0x354A0FF9#32
  | 77 => 0xB53CCA00#32
  | 78 => 0x3530D21D#32
  | 79 => 0xB525FE56#32
  | 80 => 0x351C2B08#32
  | 81 => 0xB51339CD#32
  | 82 => 0x350B1097#32
  | 83 => 0xB50398F7#32
  | 84 => 0x34F97F13#32
  | 85 => 0xB4ECE6F7#32
  | 86 => 0x34E14C49#32
  | 87 => 0xB4D69568#32
  | 88 => 0x34CCABDA#32
  | 89 => 0xB4C37BD6#32
  | 90 => 0x34BAF3E5#32
  | 91 => 0xB4B30492#32
  | 92 => 0x34ABA023#32
  | 93 => 0xB4A4BA5F#32
  | 94 => 0x349E485F#32
  | 95 => 0xB4984061#32
  | 96 => 0x349299A5#32
  | 97 => 0xB48D4C4D#32
  | 98 => 0x34885143#32
  | 99 => 0xB483A221#32
  | 100 => 0x347E723F#32
  | 101 => 0xB4762200#32
  | 102 => 0x346E49FF#32
  | 103 => 0xB466E193#32
  | 104 => 0x345FE0DA#32
  | 105 => 0xB45940A1#32
  | 106 => 0x3452FA51#32
  | 107 => 0xB44D07E6#32
  | 108 => 0x344763DA#32
  | 109 => 0xB4420919#32
  | 110 => 0x343CF2FA#32
  | 111 => 0xB4381D32#32
  | 112 => 0x343383CC#32
  | 113 => 0xB42F2322#32
  | 114 => 0x342AF7D2#32
  | 115 => 0xB426FEBD#32
  | 116 => 0x342334FF#32
  | 117 => 0xB41F97EA#32
  | 118 => 0x341C2500#32
  | 119 => 0xB418D9F0#32
  | 120 => 0x3415B495#32
  | 121 => 0xB412B2ED#32
  | 122 => 0x340FD31A#32
  | 123 => 0xB40D1360#32
  | 124 => 0x340A721F#32
  | 125 => 0xB407EDD1#32
  | 126 => 0x3405850C#32
  | 127 => 0xB403367C#32
  | _ => 0#32

noncomputable abbrev lit0t0_356 (i : Nat) : BitVec 32 := match i % 128 with
  | 0 => 0xB403367C#32
  | 1 => 0x340100E3#32
  | 2 => 0xB3FDC62E#32
  | 3 => 0x33F9B800#32
  | 4 => 0xB3F5D532#32
  | 5 => 0x33F21BD6#32
  | 6 => 0xB3EE8A1F#32
  | 7 => 0x33EB1E5A#32
  | 8 => 0xB3E7D6EF#32
  | 9 => 0x33E4B25D#32
  | 10 => 0xB3E1AF3D#32
  | 11 => 0x33DECC38#32
  | 12 => 0xB3DC0810#32
  | 13 => 0x33D96196#32
  | 14 => 0xB3D6D7AE#32
  | 15 => 0x33D4694B#32
  | 16 => 0xB3D21572#32
  | 17 => 0x33CFDB34#32
  | 18 => 0xB3CDB9B1#32
  | 19 => 0x33CBB015#32
  | 20 => 0xB3C9BD97#32
  | 21 => 0x33C7E17D#32
  | 22 => 0xB3C61B15#32
  | 23 => 0x33C469B8#32
  | 24 => 0xB3C2CCC7#32
  | 25 => 0x33C143B0#32
  | 26 => 0xB3BFCDE6#32
  | 27 => 0x33BE6AE7#32
  | 28 => 0xB3BD1A36#32
  | 29 => 0x33BBDB61#32
  | 30 => 0xB3BAADFB#32
  | 31 => 0x33B9919E#32
  | 32 => 0xB3B885EC#32
  | 33 => 0x33B78A8A#32
  | 34 => 0xB3B69F28#32
  | 35 => 0x33B5C377#32
  | 36 => 0xB3B4F732#32
  | 37 => 0x33B43A15#32
  | 38 => 0xB3B38BE5#32
  | 39 => 0x33B2EC6A#32
  | 40 => 0xB3B25B72#32
  | 41 => 0x33B1D8CF#32
  | 42 => 0xB3B16459#32
  | 43 => 0x33B0FDEA#32
  | 44 => 0xB3B0A563#32
  | 45 => 0x33B05AA9#32
  | 46 => 0xB3B01DA5#32
  | 47 => 0x33AFEE43#32
  | 48 => 0xB3AFCC75#32
  | 49 => 0x33AFB831#32
  | 50 => 0xB3AFB170#32
  | 51 => 0x33AFB831#32
  | 52 => 0xB3AFCC75#32
  | 53 => 0x33AFEE43#32
  | 54 => 0xB3B01DA5#32
  | 55 => 0x33B05AA9#32
  | 56 => 0xB3B0A563#32
  | 57 => 0x33B0FDEA#32
  | 58 => 0xB3B16459#32
  | 59 => 0x33B1D8CF#32
  | 60 => 0xB3B25B72#32
  | 61 => 0x33B2EC6A#32
  | 62 => 0xB3B38BE5#32
  | 63 => 0x33B43A15#32
  | 64 => 0xB3B4F732#32
  | 65 => 0x33B5C377#32
  | 66 => 0xB3B69F28#32
  | 67 => 0x33B78A8A#32
  | 68 => 0xB3B885EC#32
  | 69 => 0x33B9919E#32
  | 70 => 0xB3BAADFB#32
  | 71 => 0x33BBDB61#32
  | 72 => 0xB3BD1A36#32
  | 73 => 0x33BE6AE7#32
  | 74 => 0xB3BFCDE6#32
  | 75 => 0x33C143B0#32
  | 76 => 0xB3C2CCC7#32
  | 77 => 0x33C469B8#32
  | 78 => 0xB3C61B15#32
  | 79 => 0x33C7E17D#32
  | 80 => 0xB3C9BD97#32
  | 81 => 0x33CBB015#32
  | 82 => 0xB3CDB9B1#32
  | 83 => 0x33CFDB34#32
  | 84 => 0xB3D21572#32
  | 85 => 0x33D4694B#32
  | 86 => 0xB3D6D7AE#32
  | 87 => 0x33D96196#32
  | 88 => 0xB3DC0810#32
  | 89 => 0x33DECC38#32
  | 90 => 0xB3E1AF3D#32
  | 91 => 0x33E4B25D#32
  | 92 => 0xB3E7D6EF#32
  | 93 => 0x33EB1E5A#32
  | 94 => 0xB3EE8A1F#32
  | 95 => 0x33F21BD6#32
  | 96 => 0xB3F5D532#32
  | 97 => 0x33F9B800#32
  | 98 => 0xB3FDC62E#32
  | 99 => 0x340100E3#32
  | 100 => 0xB403367C#32
  | 101 => 0x3405850C#32
  | 102 => 0xB407EDD1#32
  | 103 => 0x340A721F#32
  | 104 => 0xB40D1360#32
  | 105 => 0x340FD31A#32
  | 106 => 0xB412B2ED#32
  | 107 => 0x3415B495#32
  | 108 => 0xB418D9F0#32
  | 109 => 0x341C2500#32
  | 110 => 0xB41F97EA#32
  | 111 => 0x342334FF#32
  | 112 => 0xB426FEBD#32
  | 113 => 0x342AF7D2#32
  | 114 => 0xB42F2322#32
  | 115 => 0x343383CC#32
  | 116 => 0xB4381D32#32
  | 117 => 0x343CF2FA#32
  | 118 => 0xB4420919#32
  | 119 => 0x344763DA#32
  | 120 => 0xB44D07E6#32
  | 121 => 0x3452FA51#32
  | 122 => 0xB45940A1#32
  | 123 => 0x345FE0DA#32
  | 124 => 0xB466E193#32
  | 125 => 0x346E49FF#32
  | 126 => 0xB4762200#32
  | 127 => 0x347E723F#32
  | _ => 0#32

noncomputable abbrev lit0t0_357 (i : Nat) : BitVec 32 := match i % 128 with
  | 0 => 0xB483A221#32
  | 1 => 0x34885143#32
  | 2 => 0xB48D4C4D#32
  | 3 => 0x349299A5#32
  | 4 => 0xB4984061#32
  | 5 => 0x349E485F#32
  | 6 => 0xB4A4BA5F#32
  | 7 => 0x34ABA023#32
  | 8 => 0xB4B30492#32
  | 9 => 0x34BAF3E5#32
  | 10 => 0xB4C37BD6#32
  | 11 => 0x34CCABDA#32
  | 12 => 0xB4D69568#32
  | 13 => 0x34E14C49#32
  | 14 => 0xB4ECE6F7#32
  | 15 => 0x34F97F13#32
  | 16 => 0xB50398F7#32
  | 17 => 0x350B1097#32
  | 18 => 0xB51339CD#32
  | 19 => 0x351C2B08#32
  | 20 => 0xB525FE56#32
  | 21 => 0x3530D21D#32
  | 22 => 0xB53CCA00#32
  | 23 => 0x354A0FF9#32
  | 24 => 0xB558D5BB#32
  | 25 => 0x35695670#32
  | 26 => 0xB57BD8F1#32
  | 27 => 0x3588594C#32
  | 28 => 0xB5942572#32
  | 29 => 0x35A19018#32
  | 30 => 0xB5B0E6EF#32
  | 31 => 0x35C28A3B#32
  | 32 => 0xB5D6F23A#32
  | 33 => 0x35EEB658#32
  | 34 => 0xB6054B76#32
  | 35 => 0x3615C529#32
  | 36 => 0xB6296767#32
  | 37 => 0x3641014B#32
  | 38 => 0xB65DA20C#32
  | 39 => 0x368056F2#32
  | 40 => 0xB695FBC4#32
  | 41 => 0x36B0ED61#32
  | 42 => 0xB6D29E9B#32
  | 43 => 0x36FFBDB2#32
  | 44 => 0xB692EE32#32
  | 45 => 0x391EBB1A#32
  | 46 => 0x3B12D0DF#32
  | 47 => 0x3CA0086D#32
  | 48 => 0x3DBAD58B#32
  | 49 => 0x3E6BB748#32
  | 50 => 0x3EA069FE#32
  | 51 => 0x3E6BB748#32
  | 52 => 0x3DBAD58B#32
  | 53 => 0x3CA0086D#32
  | 54 => 0x3B12D0DF#32
  | 55 => 0x391EBB1A#32
  | 56 => 0xB692EE32#32
  | 57 => 0x36FFBDB2#32
  | 58 => 0xB6D29E9B#32
  | 59 => 0x36B0ED61#32
  | 60 => 0xB695FBC4#32
  | 61 => 0x368056F2#32
  | 62 => 0xB65DA20C#32
  | 63 => 0x3641014B#32
  | 64 => 0xB6296767#32
  | 65 => 0x3615C529#32
  | 66 => 0xB6054B76#32
  | 67 => 0x35EEB658#32
  | 68 => 0xB5D6F23A#32
  | 69 => 0x35C28A3B#32
  | 70 => 0xB5B0E6EF#32
  | 71 => 0x35A19018#32
  | 72 => 0xB5942572#32
  | 73 => 0x3588594C#32
  | 74 => 0xB57BD8F1#32
  | 75 => 0x35695670#32
  | 76 => 0xB558D5BB#32
  | 77 => 0x354A0FF9#32
  | 78 => 0xB53CCA00#32
  | 79 => 0x3530D21D#32
  | 80 => 0xB525FE56#32
  | 81 => 0x351C2B08#32
  | 82 => 0xB51339CD#32
  | 83 => 0x350B1097#32
  | 84 => 0xB50398F7#32
  | 85 => 0x34F97F13#32
  | 86 => 0xB4ECE6F7#32
  | 87 => 0x34E14C49#32
  | 88 => 0xB4D69568#32
  | 89 => 0x34CCABDA#32
  | 90 => 0xB4C37BD6#32
  | 91 => 0x34BAF3E5#32
  | 92 => 0xB4B30492#32
  | 93 => 0x34ABA023#32
  | 94 => 0xB4A4BA5F#32
  | 95 => 0x349E485F#32
  | 96 => 0xB4984061#32
  | 97 => 0x349299A5#32
  | 98 => 0xB48D4C4D#32
  | 99 => 0x34885143#32
  | 100 => 0xB483A221#32
  | 101 => 0x347E723F#32
  | 102 => 0xB4762200#32
  | 103 => 0x346E49FF#32
  | 104 => 0xB466E193#32
  | 105 => 0x345FE0DA#32
  | 106 => 0xB45940A1#32
  | 107 => 0x3452FA51#32
  | 108 => 0xB44D07E6#32
  | 109 => 0x344763DA#32
  | 110 => 0xB4420919#32
  | 111 => 0x343CF2FA#32
  | 112 => 0xB4381D32#32
  | 113 => 0x343383CC#32
  | 114 => 0xB42F2322#32
  | 115 => 0x342AF7D2#32
  | 116 => 0xB426FEBD#32
  | 117 => 0x342334FF#32
  | 118 => 0xB41F97EA#32
  | 119 => 0x341C2500#32
  | 120 => 0xB418D9F0#32
  | 121 => 0x3415B495#32
  | 122 => 0xB412B2ED#32
  | 123 => 0x340FD31A#32
  | 124 => 0xB40D1360#32
  | 125 => 0x340A721F#32
  | 126 => 0xB407EDD1#32
  | 127 => 0x3405850C#32
  | _ => 0#32

noncomputable abbrev lit0t0_358 (i : Nat) : BitVec 32 := match i % 128 with
  | 0 => 0x3405850C#32
  | 1 => 0xB403367C#32
  | 2 => 0x340100E3#32
  | 3 => 0xB3FDC62E#32
  | 4 => 0x33F9B800#32
  | 5 => 0xB3F5D532#32
  | 6 => 0x33F21BD6#32
  | 7 => 0xB3EE8A1F#32
  | 8 => 0x33EB1E5A#32
  | 9 => 0xB3E7D6EF#32
  | 10 => 0x33E4B25D#32
  | 11 => 0xB3E1AF3D#32
  | 12 => 0x33DECC38#32
  | 13 => 0xB3DC0810#32
  | 14 => 0x33D96196#32
  | 15 => 0xB3D6D7AE#32
  | 16 => 0x33D4694B#32
  | 17 => 0xB3D21572#32
  | 18 => 0x33CFDB34#32
  | 19 => 0xB3CDB9B1#32
  | 20 => 0x33CBB015#32
  | 21 => 0xB3C9BD97#32
  | 22 => 0x33C7E17D#32
  | 23 => 0xB3C61B15#32
  | 24 => 0x33C469B8#32
  | 25 => 0xB3C2CCC7#32
  | 26 => 0x33C143B0#32
  | 27 => 0xB3BFCDE6#32
  | 28 => 0x33BE6AE7#32
  | 29 => 0xB3BD1A36#32
  | 30 => 0x33BBDB61#32
  | 31 => 0xB3BAADFB#32
  | 32 => 0x33B9919E#32
  | 33 => 0xB3B885EC#32
  | 34 => 0x33B78A8A#32
  | 35 => 0xB3B69F28#32
  | 36 => 0x33B5C377#32
  | 37 => 0xB3B4F732#32
  | 38 => 0x33B43A15#32
  | 39 => 0xB3B38BE5#32
  | 40 => 0x33B2EC6A#32
  | 41 => 0xB3B25B72#32
  | 42 => 0x33B1D8CF#32
  | 43 => 0xB3B16459#32
  | 44 => 0x33B0FDEA#32
  | 45 => 0xB3B0A563#32
  | 46 => 0x33B05AA9#32
  | 47 => 0xB3B01DA5#32
  | 48 => 0x33AFEE43#32
  | 49 => 0xB3AFCC75#32
  | 50 => 0x33AFB831#32
  | 51 => 0xB3AFB170#32
  | 52 => 0x33AFB831#32
  | 53 => 0xB3AFCC75#32
  | 54 => 0x33AFEE43#32
  | 55 => 0xB3B01DA5#32
  | 56 => 0x33B05AA9#32
  | 57 => 0xB3B0A563#32
  | 58 => 0x33B0FDEA#32
  | 59 => 0xB3B16459#32
  | 60 => 0x33B1D8CF#32
  | 61 => 0xB3B25B72#32
  | 62 => 0x33B2EC6A#32
  | 63 => 0xB3B38BE5#32
  | 64 => 0x33B43A15#32
  | 65 => 0xB3B4F732#32
  | 66 => 0x33B5C377#32
  | 67 => 0xB3B69F28#32
  | 68 => 0x33B78A8A#32
  | 69 => 0xB3B885EC#32
  | 70 => 0x33B9919E#32
  | 71 => 0xB3BAADFB#32
  | 72 => 0x33BBDB61#32
  | 73 => 0xB3BD1A36#32
  | 74 => 0x33BE6AE7#32
  | 75 => 0xB3BFCDE6#32
  | 76 => 0x33C143B0#32
  | 77 => 0xB3C2CCC7#32
  | 78 => 0x33C469B8#32
  | 79 => 0xB3C61B15#32
  | 80 => 0x33C7E17D#32
  | 81 => 0xB3C9BD97#32
  | 82 => 0x33CBB015#32
  | 83 => 0xB3CDB9B1#32
  | 84 => 0x33CFDB34#32
  | 85 => 0xB3D21572#32
  | 86 => 0x33D4694B#32
  | 87 => 0xB3D6D7AE#32
  | 88 => 0x33D96196#32
  | 89 => 0xB3DC0810#32
  | 90 => 0x33DECC38#32
  | 91 => 0xB3E1AF3D#32
  | 92 => 0x33E4B25D#32
  | 93 => 0xB3E7D6EF#32
  | 94 => 0x33EB1E5A#32
  | 95 => 0xB3EE8A1F#32
  | 96 => 0x33F21BD6#32
  | 97 => 0xB3F5D532#32
  | 98 => 0x33F9B800#32
  | 99 => 0xB3FDC62E#32
  | 100 => 0x340100E3#32
  | 101 => 0xB403367C#32
  | 102 => 0x3405850C#32
  | 103 => 0xB407EDD1#32
  | 104 => 0x340A721F#32
  | 105 => 0xB40D1360#32
  | 106 => 0x340FD31A#32
  | 107 => 0xB412B2ED#32
  | 108 => 0x3415B495#32
  | 109 => 0xB418D9F0#32
  | 110 => 0x341C2500#32
  | 111 => 0xB41F97EA#32
  | 112 => 0x342334FF#32
  | 113 => 0xB426FEBD#32
  | 114 => 0x342AF7D2#32
  | 115 => 0xB42F2322#32
  | 116 => 0x343383CC#32
  | 117 => 0xB4381D32#32
  | 118 => 0x343CF2FA#32
  | 119 => 0xB4420919#32
  | 120 => 0x344763DA#32
  | 121 => 0xB44D07E6#32
  | 122 => 0x3452FA51#32
  | 123 => 0xB45940A1#32
  | 124 => 0x345FE0DA#32
  | 125 => 0xB466E193#32
  | 126 => 0x346E49FF#32
  | 127 => 0xB4762200#32
  | _ => 0#32

noncomputable abbrev lit0t0_359 (i : Nat) : BitVec 32 := match i % 128 with
  | 0 => 0x347E723F#32
  | 1 => 0xB483A221#32
  | 2 => 0x34885143#32
  | 3 => 0xB48D4C4D#32
  | 4 => 0x349299A5#32
  | 5 => 0xB4984061#32
  | 6 => 0x349E485F#32
  | 7 => 0xB4A4BA5F#32
  | 8 => 0x34ABA023#32
  | 9 => 0xB4B30492#32
  | 10 => 0x34BAF3E5#32
  | 11 => 0xB4C37BD6#32
  | 12 => 0x34CCABDA#32
  | 13 => 0xB4D69568#32
  | 14 => 0x34E14C49#32
  | 15 => 0xB4ECE6F7#32
  | 16 => 0x34F97F13#32
  | 17 => 0xB50398F7#32
  | 18 => 0x350B1097#32
  | 19 => 0xB51339CD#32
  | 20 => 0x351C2B08#32
  | 21 => 0xB525FE56#32
  | 22 => 0x3530D21D#32
  | 23 => 0xB53CCA00#32
  | 24 => 0x354A0FF9#32
  | 25 => 0xB558D5BB#32
  | 26 => 0x35695670#32
  | 27 => 0xB57BD8F1#32
  | 28 => 0x3588594C#32
  | 29 => 0xB5942572#32
  | 30 => 0x35A19018#32
  | 31 => 0xB5B0E6EF#32
  | 32 => 0x35C28A3B#32
  | 33 => 0xB5D6F23A#32
  | 34 => 0x35EEB658#32
  | 35 => 0xB6054B76#32
  | 36 => 0x3615C529#32
  | 37 => 0xB6296767#32
  | 38 => 0x3641014B#32
  | 39 => 0xB65DA20C#32
  | 40 => 0x368056F2#32
  | 41 => 0xB695FBC4#32
  | 42 => 0x36B0ED61#32
  | 43 => 0xB6D29E9B#32
  | 44 => 0x36FFBDB2#32
  | 45 => 0xB692EE32#32
  | 46 => 0x391EBB1A#32
  | 47 => 0x3B12D0DF#32
  | 48 => 0x3CA0086D#32
  | 49 => 0x3DBAD58B#32
  | 50 => 0x3E6BB748#32
  | 51 => 0x3EA069FE#32
  | 52 => 0x3E6BB748#32
  | 53 => 0x3DBAD58B#32
  | 54 => 0x3CA0086D#32
  | 55 => 0x3B12D0DF#32
  | 56 => 0x391EBB1A#32
  | 57 => 0xB692EE32#32
  | 58 => 0x36FFBDB2#32
  | 59 => 0xB6D29E9B#32
  | 60 => 0x36B0ED61#32
  | 61 => 0xB695FBC4#32
  | 62 => 0x368056F2#32
  | 63 => 0xB65DA20C#32
  | 64 => 0x3641014B#32
  | 65 => 0xB6296767#32
  | 66 => 0x3615C529#32
  | 67 => 0xB6054B76#32
  | 68 => 0x35EEB658#32
  | 69 => 0xB5D6F23A#32
  | 70 => 0x35C28A3B#32
  | 71 => 0xB5B0E6EF#32
  | 72 => 0x35A19018#32
  | 73 => 0xB5942572#32
  | 74 => 0x3588594C#32
  | 75 => 0xB57BD8F1#32
  | 76 => 0x35695670#32
  | 77 => 0xB558D5BB#32
  | 78 => 0x354A0FF9#32
  | 79 => 0xB53CCA00#32
  | 80 => 0x3530D21D#32
  | 81 => 0xB525FE56#32
  | 82 => 0x351C2B08#32
  | 83 => 0xB51339CD#32
  | 84 => 0x350B1097#32
  | 85 => 0xB50398F7#32
  | 86 => 0x34F97F13#32
  | 87 => 0xB4ECE6F7#32
  | 88 => 0x34E14C49#32
  | 89 => 0xB4D69568#32
  | 90 => 0x34CCABDA#32
  | 91 => 0xB4C37BD6#32
  | 92 => 0x34BAF3E5#32
  | 93 => 0xB4B30492#32
  | 94 => 0x34ABA023#32
  | 95 => 0xB4A4BA5F#32
  | 96 => 0x349E485F#32
  | 97 => 0xB4984061#32
  | 98 => 0x349299A5#32
  | 99 => 0xB48D4C4D#32
  | 100 => 0x34885143#32
  | 101 => 0xB483A221#32
  | 102 => 0x347E723F#32
  | 103 => 0xB4762200#32
  | 104 => 0x346E49FF#32
  | 105 => 0xB466E193#32
  | 106 => 0x345FE0DA#32
  | 107 => 0xB45940A1#32
  | 108 => 0x3452FA51#32
  | 109 => 0xB44D07E6#32
  | 110 => 0x344763DA#32
  | 111 => 0xB4420919#32
  | 112 => 0x343CF2FA#32
  | 113 => 0xB4381D32#32
  | 114 => 0x343383CC#32
  | 115 => 0xB42F2322#32
  | 116 => 0x342AF7D2#32
  | 117 => 0xB426FEBD#32
  | 118 => 0x342334FF#32
  | 119 => 0xB41F97EA#32
  | 120 => 0x341C2500#32
  | 121 => 0xB418D9F0#32
  | 122 => 0x3415B495#32
  | 123 => 0xB412B2ED#32
  | 124 => 0x340FD31A#32
  | 125 => 0xB40D1360#32
  | 126 => 0x340A721F#32
  | 127 => 0xB407EDD1#32
  | _ => 0#32

noncomputable abbrev lit0t0_360 (i : Nat) : BitVec 32 := match i % 128 with
  | 0 => 0xB407EDD1#32
  | 1 => 0x3405850C#32
  | 2 => 0xB403367C#32
  | 3 => 0x340100E3#32
  | 4 => 0xB3FDC62E#32
  | 5 => 0x33F9B800#32
  | 6 => 0xB3F5D532#32
  | 7 => 0x33F21BD6#32
  | 8 => 0xB3EE8A1F#32
  | 9 => 0x33EB1E5A#32
  | 10 => 0xB3E7D6EF#32
  | 11 => 0x33E4B25D#32
  | 12 => 0xB3E1AF3D#32
  | 13 => 0x33DECC38#32
  | 14 => 0xB3DC0810#32
  | 15 => 0x33D96196#32
  | 16 => 0xB3D6D7AE#32
  | 17 => 0x33D4694B#32
  | 18 => 0xB3D21572#32
  | 19 => 0x33CFDB34#32
  | 20 => 0xB3CDB9B1#32
  | 21 => 0x33CBB015#32
  | 22 => 0xB3C9BD97#32
  | 23 => 0x33C7E17D#32
  | 24 => 0xB3C61B15#32
  | 25 => 0x33C469B8#32
  | 26 => 0xB3C2CCC7#32
  | 27 => 0x33C143B0#32
  | 28 => 0xB3BFCDE6#32
  | 29 => 0x33BE6AE7#32
  | 30 => 0xB3BD1A36#32
  | 31 => 0x33BBDB61#32
  | 32 => 0xB3BAADFB#32
  | 33 => 0x33B9919E#32
  | 34 => 0xB3B885EC#32
  | 35 => 0x33B78A8A#32
  | 36 => 0xB3B69F28#32
  | 37 => 0x33B5C377#32
  | 38 => 0xB3B4F732#32
  | 39 => 0x33B43A15#32
  | 40 => 0xB3B38BE5#32
  | 41 => 0x33B2EC6A#32
  | 42 => 0xB3B25B72#32
  | 43 => 0x33B1D8CF#32
  | 44 => 0xB3B16459#32
  | 45 => 0x33B0FDEA#32
  | 46 => 0xB3B0A563#32
  | 47 => 0x33B05AA9#32
  | 48 => 0xB3B01DA5#32
  | 49 => 0x33AFEE43#32
  | 50 => 0xB3AFCC75#32
  | 51 => 0x33AFB831#32
  | 52 => 0xB3AFB170#32
  | 53 => 0x33AFB831#32
  | 54 => 0xB3AFCC75#32
  | 55 => 0x33AFEE43#32
  | 56 => 0xB3B01DA5#32
  | 57 => 0x33B05AA9#32
  | 58 => 0xB3B0A563#32
  | 59 => 0x33B0FDEA#32
  | 60 => 0xB3B16459#32
  | 61 => 0x33B1D8CF#32
  | 62 => 0xB3B25B72#32
  | 63 => 0x33B2EC6A#32
  | 64 => 0xB3B38BE5#32
  | 65 => 0x33B43A15#32
  | 66 => 0xB3B4F732#32
  | 67 => 0x33B5C377#32
  | 68 => 0xB3B69F28#32
  | 69 => 0x33B78A8A#32
  | 70 => 0xB3B885EC#32
  | 71 => 0x33B9919E#32
  | 72 => 0xB3BAADFB#32
  | 73 => 0x33BBDB61#32
  | 74 => 0xB3BD1A36#32
  | 75 => 0x33BE6AE7#32
  | 76 => 0xB3BFCDE6#32
  | 77 => 0x33C143B0#32
  | 78 => 0xB3C2CCC7#32
  | 79 => 0x33C469B8#32
  | 80 => 0xB3C61B15#32
  | 81 => 0x33C7E17D#32
  | 82 => 0xB3C9BD97#32
  | 83 => 0x33CBB015#32
  | 84 => 0xB3CDB9B1#32
  | 85 => 0x33CFDB34#32
  | 86 => 0xB3D21572#32
  | 87 => 0x33D4694B#32
  | 88 => 0xB3D6D7AE#32
  | 89 => 0x33D96196#32
  | 90 => 0xB3DC0810#32
  | 91 => 0x33DECC38#32
  | 92 => 0xB3E1AF3D#32
  | 93 => 0x33E4B25D#32
  | 94 => 0xB3E7D6EF#32
  | 95 => 0x33EB1E5A#32
  | 96 => 0xB3EE8A1F#32
  | 97 => 0x33F21BD6#32
  | 98 => 0xB3F5D532#32
  | 99 => 0x33F9B800#32
  | 100 => 0xB3FDC62E#32
  | 101 => 0x340100E3#32
  | 102 => 0xB403367C#32
  | 103 => 0x3405850C#32
  | 104 => 0xB407EDD1#32
  | 105 => 0x340A721F#32
  | 106 => 0xB40D1360#32
  | 107 => 0x340FD31A#32
  | 108 => 0xB412B2ED#32
  | 109 => 0x3415B495#32
  | 110 => 0xB418D9F0#32
  | 111 => 0x341C2500#32
  | 112 => 0xB41F97EA#32
  | 113 => 0x342334FF#32
  | 114 => 0xB426FEBD#32
  | 115 => 0x342AF7D2#32
  | 116 => 0xB42F2322#32
  | 117 => 0x343383CC#32
  | 118 => 0xB4381D32#32
  | 119 => 0x343CF2FA#32
  | 120 => 0xB4420919#32
  | 121 => 0x344763DA#32
  | 122 => 0xB44D07E6#32
  | 123 => 0x3452FA51#32
  | 124 => 0xB45940A1#32
  | 125 => 0x345FE0DA#32
  | 126 => 0xB466E193#32
  | 127 => 0x346E49FF#32
  | _ => 0#32

noncomputable abbrev lit0t0_361 (i : Nat) : BitVec 32 := match i % 128 with
  | 0 => 0xB4762200#32
  | 1 => 0x347E723F#32
  | 2 => 0xB483A221#32
  | 3 => 0x34885143#32
  | 4 => 0xB48D4C4D#32
  | 5 => 0x349299A5#32
  | 6 => 0xB4984061#32
  | 7 => 0x349E485F#32
  | 8 => 0xB4A4BA5F#32
  | 9 => 0x34ABA023#32
  | 10 => 0xB4B30492#32
  | 11 => 0x34BAF3E5#32
  | 12 => 0xB4C37BD6#32
  | 13 => 0x34CCABDA#32
  | 14 => 0xB4D69568#32
  | 15 => 0x34E14C49#32
  | 16 => 0xB4ECE6F7#32
  | 17 => 0x34F97F13#32
  | 18 => 0xB50398F7#32
  | 19 => 0x350B1097#32
  | 20 => 0xB51339CD#32
  | 21 => 0x351C2B08#32
  | 22 => 0xB525FE56#32
  | 23 => 0x3530D21D#32
  | 24 => 0xB53CCA00#32
  | 25 => 0x354A0FF9#32
  | 26 => 0xB558D5BB#32
  | 27 => 0x35695670#32
  | 28 => 0xB57BD8F1#32
  | 29 => 0x3588594C#32
  | 30 => 0xB5942572#32
  | 31 => 0x35A19018#32
  | 32 => 0xB5B0E6EF#32
  | 33 => 0x35C28A3B#32
  | 34 => 0xB5D6F23A#32
  | 35 => 0x35EEB658#32
  | 36 => 0xB6054B76#32
  | 37 => 0x3615C529#32
  | 38 => 0xB6296767#32
  | 39 => 0x3641014B#32
  | 40 => 0xB65DA20C#32
  | 41 => 0x368056F2#32
  | 42 => 0xB695FBC4#32
  | 43 => 0x36B0ED61#32
  | 44 => 0xB6D29E9B#32
  | 45 => 0x36FFBDB2#32
  | 46 => 0xB692EE32#32
  | 47 => 0x391EBB1A#32
  | 48 => 0x3B12D0DF#32
  | 49 => 0x3CA0086D#32
  | 50 => 0x3DBAD58B#32
  | 51 => 0x3E6BB748#32
  | 52 => 0x3EA069FE#32
  | 53 => 0x3E6BB748#32
  | 54 => 0x3DBAD58B#32
  | 55 => 0x3CA0086D#32
  | 56 => 0x3B12D0DF#32
  | 57 => 0x391EBB1A#32
  | 58 => 0xB692EE32#32
  | 59 => 0x36FFBDB2#32
  | 60 => 0xB6D29E9B#32
  | 61 => 0x36B0ED61#32
  | 62 => 0xB695FBC4#32
  | 63 => 0x368056F2#32
  | 64 => 0xB65DA20C#32
  | 65 => 0x3641014B#32
  | 66 => 0xB6296767#32
  | 67 => 0x3615C529#32
  | 68 => 0xB6054B76#32
  | 69 => 0x35EEB658#32
  | 70 => 0xB5D6F23A#32
  | 71 => 0x35C28A3B#32
  | 72 => 0xB5B0E6EF#32
  | 73 => 0x35A19018#32
  | 74 => 0xB5942572#32
  | 75 => 0x3588594C#32
  | 76 => 0xB57BD8F1#32
  | 77 => 0x35695670#32
  | 78 => 0xB558D5BB#32
  | 79 => 0x354A0FF9#32
  | 80 => 0xB53CCA00#32
  | 81 => 0x3530D21D#32
  | 82 => 0xB525FE56#32
  | 83 => 0x351C2B08#32
  | 84 => 0xB51339CD#32
  | 85 => 0x350B1097#32
  | 86 => 0xB50398F7#32
  | 87 => 0x34F97F13#32
  | 88 => 0xB4ECE6F7#32
  | 89 => 0x34E14C49#32
  | 90 => 0xB4D69568#32
  | 91 => 0x34CCABDA#32
  | 92 => 0xB4C37BD6#32
  | 93 => 0x34BAF3E5#32
  | 94 => 0xB4B30492#32
  | 95 => 0x34ABA023#32
  | 96 => 0xB4A4BA5F#32
  | 97 => 0x349E485F#32
  | 98 => 0xB4984061#32
  | 99 => 0x349299A5#32
  | 100 => 0xB48D4C4D#32
  | 101 => 0x34885143#32
  | 102 => 0xB483A221#32
  | 103 => 0x347E723F#32
  | 104 => 0xB4762200#32
  | 105 => 0x346E49FF#32
  | 106 => 0xB466E193#32
  | 107 => 0x345FE0DA#32
  | 108 => 0xB45940A1#32
  | 109 => 0x3452FA51#32
  | 110 => 0xB44D07E6#32
  | 111 => 0x344763DA#32
  | 112 => 0xB4420919#32
  | 113 => 0x343CF2FA#32
  | 114 => 0xB4381D32#32
  | 115 => 0x343383CC#32
  | 116 => 0xB42F2322#32
  | 117 => 0x342AF7D2#32
  | 118 => 0xB426FEBD#32
  | 119 => 0x342334FF#32
  | 120 => 0xB41F97EA#32
  | 121 => 0x341C2500#32
  | 122 => 0xB418D9F0#32
  | 123 => 0x3415B495#32
  | 124 => 0xB412B2ED#32
  | 125 => 0x340FD31A#32
  | 126 => 0xB40D1360#32
  | 127 => 0x340A721F#32
  | _ => 0#32

noncomputable abbrev lit0t0_362 (i : Nat) : BitVec 32 := match i % 128 with
  | 0 => 0x340A721F#32
  | 1 => 0xB407EDD1#32
  | 2 => 0x3405850C#32
  | 3 => 0xB403367C#32
  | 4 => 0x340100E3#32
  | 5 => 0xB3FDC62E#32
  | 6 => 0x33F9B800#32
  | 7 => 0xB3F5D532#32
  | 8 => 0x33F21BD6#32
  | 9 => 0xB3EE8A1F#32
  | 10 => 0x33EB1E5A#32
  | 11 => 0xB3E7D6EF#32
  | 12 => 0x33E4B25D#32
  | 13 => 0xB3E1AF3D#32
  | 14 => 0x33DECC38#32
  | 15 => 0xB3DC0810#32
  | 16 => 0x33D96196#32
  | 17 => 0xB3D6D7AE#32
  | 18 => 0x33D4694B#32
  | 19 => 0xB3D21572#32
  | 20 => 0x33CFDB34#32
  | 21 => 0xB3CDB9B1#32
  | 22 => 0x33CBB015#32
  | 23 => 0xB3C9BD97#32
  | 24 => 0x33C7E17D#32
  | 25 => 0xB3C61B15#32
  | 26 => 0x33C469B8#32
  | 27 => 0xB3C2CCC7#32
  | 28 => 0x33C143B0#32
  | 29 => 0xB3BFCDE6#32
  | 30 => 0x33BE6AE7#32
  | 31 => 0xB3BD1A36#32
  | 32 => 0x33BBDB61#32
  | 33 => 0xB3BAADFB#32
  | 34 => 0x33B9919E#32
  | 35 => 0xB3B885EC#32
  | 36 => 0x33B78A8A#32
  | 37 => 0xB3B69F28#32
  | 38 => 0x33B5C377#32
  | 39 => 0xB3B4F732#32
  | 40 => 0x33B43A15#32
  | 41 => 0xB3B38BE5#32
  | 42 => 0x33B2EC6A#32
  | 43 => 0xB3B25B72#32
  | 44 => 0x33B1D8CF#32
  | 45 => 0xB3B16459#32
  | 46 => 0x33B0FDEA#32
  | 47 => 0xB3B0A563#32
  | 48 => 0x33B05AA9#32
  | 49 => 0xB3B01DA5#32
  | 50 => 0x33AFEE43#32
  | 51 => 0xB3AFCC75#32
  | 52 => 0x33AFB831#32
  | 53 => 0xB3AFB170#32
  | 54 => 0x33AFB831#32
  | 55 => 0xB3AFCC75#32
  | 56 => 0x33AFEE43#32
  | 57 => 0xB3B01DA5#32
  | 58 => 0x33B05AA9#32
  | 59 => 0xB3B0A563#32
  | 60 => 0x33B0FDEA#32
  | 61 => 0xB3B16459#32
  | 62 => 0x33B1D8CF#32
  | 63 => 0xB3B25B72#32
  | 64 => 0x33B2EC6A#32
  | 65 => 0xB3B38BE5#32
  | 66 => 0x33B43A15#32
  | 67 => 0xB3B4F732#32
  | 68 => 0x33B5C377#32
  | 69 => 0xB3B69F28#32
  | 70 => 0x33B78A8A#32
  | 71 => 0xB3B885EC#32
  | 72 => 0x33B9919E#32
  | 73 => 0xB3BAADFB#32
  | 74 => 0x33BBDB61#32
  | 75 => 0xB3BD1A36#32
  | 76 => 0x33BE6AE7#32
  | 77 => 0xB3BFCDE6#32
  | 78 => 0x33C143B0#32
  | 79 => 0xB3C2CCC7#32
  | 80 => 0x33C469B8#32
  | 81 => 0xB3C61B15#32
  | 82 => 0x33C7E17D#32
  | 83 => 0xB3C9BD97#32
  | 84 => 0x33CBB015#32
  | 85 => 0xB3CDB9B1#32
  | 86 => 0x33CFDB34#32
  | 87 => 0xB3D21572#32
  | 88 => 0x33D4694B#32
  | 89 => 0xB3D6D7AE#32
  | 90 => 0x33D96196#32
  | 91 => 0xB3DC0810#32
  | 92 => 0x33DECC38#32
  | 93 => 0xB3E1AF3D#32
  | 94 => 0x33E4B25D#32
  | 95 => 0xB3E7D6EF#32
  | 96 => 0x33EB1E5A#32
  | 97 => 0xB3EE8A1F#32
  | 98 => 0x33F21BD6#32
  | 99 => 0xB3F5D532#32
  | 100 => 0x33F9B800#32
  | 101 => 0xB3FDC62E#32
  | 102 => 0x340100E3#32
  | 103 => 0xB403367C#32
  | 104 => 0x3405850C#32
  | 105 => 0xB407EDD1#32
  | 106 => 0x340A721F#32
  | 107 => 0xB40D1360#32
  | 108 => 0x340FD31A#32
  | 109 => 0xB412B2ED#32
  | 110 => 0x3415B495#32
  | 111 => 0xB418D9F0#32
  | 112 => 0x341C2500#32
  | 113 => 0xB41F97EA#32
  | 114 => 0x342334FF#32
  | 115 => 0xB426FEBD#32
  | 116 => 0x342AF7D2#32
  | 117 => 0xB42F2322#32
  | 118 => 0x343383CC#32
  | 119 => 0xB4381D32#32
  | 120 => 0x343CF2FA#32
  | 121 => 0xB4420919#32
  | 122 => 0x344763DA#32
  | 123 => 0xB44D07E6#32
  | 124 => 0x3452FA51#32
  | 125 => 0xB45940A1#32
  | 126 => 0x345FE0DA#32
  | 127 => 0xB466E193#32
  | _ => 0#32

noncomputable abbrev lit0t0_363 (i : Nat) : BitVec 32 := match i % 128 with
  | 0 => 0x346E49FF#32
  | 1 => 0xB4762200#32
  | 2 => 0x347E723F#32
  | 3 => 0xB483A221#32
  | 4 => 0x34885142#32
  | 5 => 0xB48D4C4D#32
  | 6 => 0x349299A5#32
  | 7 => 0xB4984061#32
  | 8 => 0x349E485F#32
  | 9 => 0xB4A4BA5F#32
  | 10 => 0x34ABA023#32
  | 11 => 0xB4B30492#32
  | 12 => 0x34BAF3E5#32
  | 13 => 0xB4C37BD6#32
  | 14 => 0x34CCABDA#32
  | 15 => 0xB4D69568#32
  | 16 => 0x34E14C49#32
  | 17 => 0xB4ECE6F7#32
  | 18 => 0x34F97F13#32
  | 19 => 0xB50398F7#32
  | 20 => 0x350B1097#32
  | 21 => 0xB51339CD#32
  | 22 => 0x351C2B08#32
  | 23 => 0xB525FE56#32
  | 24 => 0x3530D21D#32
  | 25 => 0xB53CCA00#32
  | 26 => 0x354A0FF9#32
  | 27 => 0xB558D5BB#32
  | 28 => 0x35695670#32
  | 29 => 0xB57BD8F1#32
  | 30 => 0x3588594C#32
  | 31 => 0xB5942572#32
  | 32 => 0x35A19018#32
  | 33 => 0xB5B0E6EF#32
  | 34 => 0x35C28A3B#32
  | 35 => 0xB5D6F23A#32
  | 36 => 0x35EEB658#32
  | 37 => 0xB6054B76#32
  | 38 => 0x3615C529#32
  | 39 => 0xB6296767#32
  | 40 => 0x3641014B#32
  | 41 => 0xB65DA20C#32
  | 42 => 0x368056F2#32
  | 43 => 0xB695FBC4#32
  | 44 => 0x36B0ED61#32
  | 45 => 0xB6D29E9B#32
  | 46 => 0x36FFBDB2#32
  | 47 => 0xB692EE32#32
  | 48 => 0x391EBB1A#32
  | 49 => 0x3B12D0DF#32
  | 50 => 0x3CA0086D#32
  | 51 => 0x3DBAD58B#32
  | 52 => 0x3E6BB748#32
  | 53 => 0x3EA069FE#32
  | 54 => 0x3E6BB748#32
  | 55 => 0x3DBAD58B#32
  | 56 => 0x3CA0086D#32
  | 57 => 0x3B12D0DF#32
  | 58 => 0x391EBB1A#32
  | 59 => 0xB692EE32#32
  | 60 => 0x36FFBDB2#32
  | 61 => 0xB6D29E9B#32
  | 62 => 0x36B0ED61#32
  | 63 => 0xB695FBC4#32
  | 64 => 0x368056F2#32
  | 65 => 0xB65DA20C#32
  | 66 => 0x3641014B#32
  | 67 => 0xB6296767#32
  | 68 => 0x3615C529#32
  | 69 => 0xB6054B76#32
  | 70 => 0x35EEB658#32
  | 71 => 0xB5D6F23A#32
  | 72 => 0x35C28A3B#32
  | 73 => 0xB5B0E6EF#32
  | 74 => 0x35A19018#32
  | 75 => 0xB5942572#32
  | 76 => 0x3588594C#32
  | 77 => 0xB57BD8F1#32
  | 78 => 0x35695670#32
  | 79 => 0xB558D5BB#32
  | 80 => 0x354A0FF9#32
  | 81 => 0xB53CCA00#32
  | 82 => 0x3530D21D#32
  | 83 => 0xB525FE56#32
  | 84 => 0x351C2B08#32
  | 85 => 0xB51339CD#32
  | 86 => 0x350B1097#32
  | 87 => 0xB50398F7#32
  | 88 => 0x34F97F13#32
  | 89 => 0xB4ECE6F7#32
  | 90 => 0x34E14C49#32
  | 91 => 0xB4D69568#32
  | 92 => 0x34CCABDA#32
  | 93 => 0xB4C37BD6#32
  | 94 => 0x34BAF3E5#32
  | 95 => 0xB4B30492#32
  | 96 => 0x34ABA023#32
  | 97 => 0xB4A4BA5F#32
  | 98 => 0x349E485F#32
  | 99 => 0xB4984061#32
  | 100 => 0x349299A5#32
  | 101 => 0xB48D4C4D#32
  | 102 => 0x34885143#32
  | 103 => 0xB483A221#32
  | 104 => 0x347E723F#32
  | 105 => 0xB4762200#32
  | 106 => 0x346E49FF#32
  | 107 => 0xB466E193#32
  | 108 => 0x345FE0DA#32
  | 109 => 0xB45940A1#32
  | 110 => 0x3452FA51#32
  | 111 => 0xB44D07E6#32
  | 112 => 0x344763DA#32
  | 113 => 0xB4420919#32
  | 114 => 0x343CF2FA#32
  | 115 => 0xB4381D32#32
  | 116 => 0x343383CC#32
  | 117 => 0xB42F2322#32
  | 118 => 0x342AF7D2#32
  | 119 => 0xB426FEBD#32
  | 120 => 0x342334FF#32
  | 121 => 0xB41F97EA#32
  | 122 => 0x341C2500#32
  | 123 => 0xB418D9F0#32
  | 124 => 0x3415B495#32
  | 125 => 0xB412B2ED#32
  | 126 => 0x340FD31A#32
  | 127 => 0xB40D1360#32
  | _ => 0#32

noncomputable abbrev lit0t0_364 (i : Nat) : BitVec 32 := match i % 128 with
  | 0 => 0xB40D1360#32
  | 1 => 0x340A721F#32
  | 2 => 0xB407EDD1#32
  | 3 => 0x3405850C#32
  | 4 => 0xB403367C#32
  | 5 => 0x340100E3#32
  | 6 => 0xB3FDC62E#32
  | 7 => 0x33F9B800#32
  | 8 => 0xB3F5D532#32
  | 9 => 0x33F21BD6#32
  | 10 => 0xB3EE8A1F#32
  | 11 => 0x33EB1E5A#32
  | 12 => 0xB3E7D6EF#32
  | 13 => 0x33E4B25D#32
  | 14 => 0xB3E1AF3D#32
  | 15 => 0x33DECC38#32
  | 16 => 0xB3DC0810#32
  | 17 => 0x33D96196#32
  | 18 => 0xB3D6D7AE#32
  | 19 => 0x33D4694B#32
  | 20 => 0xB3D21572#32
  | 21 => 0x33CFDB34#32
  | 22 => 0xB3CDB9B1#32
  | 23 => 0x33CBB015#32
  | 24 => 0xB3C9BD97#32
  | 25 => 0x33C7E17D#32
  | 26 => 0xB3C61B15#32
  | 27 => 0x33C469B8#32
  | 28 => 0xB3C2CCC7#32
  | 29 => 0x33C143B0#32
  | 30 => 0xB3BFCDE6#32
  | 31 => 0x33BE6AE7#32
  | 32 => 0xB3BD1A36#32
  | 33 => 0x33BBDB61#32
  | 34 => 0xB3BAADFB#32
  | 35 => 0x33B9919E#32
  | 36 => 0xB3B885EC#32
  | 37 => 0x33B78A8A#32
  | 38 => 0xB3B69F28#32
  | 39 => 0x33B5C377#32
  | 40 => 0xB3B4F732#32
  | 41 => 0x33B43A15#32
  | 42 => 0xB3B38BE5#32
  | 43 => 0x33B2EC6A#32
  | 44 => 0xB3B25B72#32
  | 45 => 0x33B1D8CF#32
  | 46 => 0xB3B16459#32
  | 47 => 0x33B0FDEA#32
  | 48 => 0xB3B0A563#32
  | 49 => 0x33B05AA9#32
  | 50 => 0xB3B01DA5#32
  | 51 => 0x33AFEE43#32
  | 52 => 0xB3AFCC75#32
  | 53 => 0x33AFB831#32
  | 54 => 0xB3AFB170#32
  | 55 => 0x33AFB831#32
  | 56 => 0xB3AFCC75#32
  | 57 => 0x33AFEE43#32
  | 58 => 0xB3B01DA5#32
  | 59 => 0x33B05AA9#32
  | 60 => 0xB3B0A563#32
  | 61 => 0x33B0FDEA#32
  | 62 => 0xB3B16459#32
  | 63 => 0x33B1D8CF#32
  | 64 => 0xB3B25B72#32
  | 65 => 0x33B2EC6A#32
  | 66 => 0xB3B38BE5#32
  | 67 => 0x33B43A15#32
  | 68 => 0xB3B4F732#32
  | 69 => 0x33B5C377#32
  | 70 => 0xB3B69F28#32
  | 71 => 0x33B78A8A#32
  | 72 => 0xB3B885EC#32
  | 73 => 0x33B9919E#32
  | 74 => 0xB3BAADFB#32
  | 75 => 0x33BBDB61#32
  | 76 => 0xB3BD1A36#32
  | 77 => 0x33BE6AE7#32
  | 78 => 0xB3BFCDE6#32
  | 79 => 0x33C143B0#32
  | 80 => 0xB3C2CCC7#32
  | 81 => 0x33C469B8#32
  | 82 => 0xB3C61B15#32
  | 83 => 0x33C7E17D#32
  | 84 => 0xB3C9BD97#32
  | 85 => 0x33CBB015#32
  | 86 => 0xB3CDB9B1#32
  | 87 => 0x33CFDB34#32
  | 88 => 0xB3D21572#32
  | 89 => 0x33D4694B#32
  | 90 => 0xB3D6D7AE#32
  | 91 => 0x33D96196#32
  | 92 => 0xB3DC0810#32
  | 93 => 0x33DECC38#32
  | 94 => 0xB3E1AF3D#32
  | 95 => 0x33E4B25D#32
  | 96 => 0xB3E7D6EF#32
  | 97 => 0x33EB1E5A#32
  | 98 => 0xB3EE8A1F#32
  | 99 => 0x33F21BD6#32
  | 100 => 0xB3F5D532#32
  | 101 => 0x33F9B800#32
  | 102 => 0xB3FDC62E#32
  | 103 => 0x340100E3#32
  | 104 => 0xB403367C#32
  | 105 => 0x3405850C#32
  | 106 => 0xB407EDD1#32
  | 107 => 0x340A721F#32
  | 108 => 0xB40D1360#32
  | 109 => 0x340FD31A#32
  | 110 => 0xB412B2ED#32
  | 111 => 0x3415B495#32
  | 112 => 0xB418D9F0#32
  | 113 => 0x341C2500#32
  | 114 => 0xB41F97EA#32
  | 115 => 0x342334FF#32
  | 116 => 0xB426FEBD#32
  | 117 => 0x342AF7D2#32
  | 118 => 0xB42F2322#32
  | 119 => 0x343383CC#32
  | 120 => 0xB4381D32#32
  | 121 => 0x343CF2FA#32
  | 122 => 0xB4420919#32
  | 123 => 0x344763DA#32
  | 124 => 0xB44D07E6#32
  | 125 => 0x3452FA51#32
  | 126 => 0xB45940A1#32
  | 127 => 0x345FE0DA#32
  | _ => 0#32

noncomputable abbrev lit0t0_365 (i : Nat) : BitVec 32 := match i % 128 with
  | 0 => 0xB466E193#32
  | 1 => 0x346E49FF#32
  | 2 => 0xB4762200#32
  | 3 => 0x347E723F#32
  | 4 => 0xB483A221#32
  | 5 => 0x34885143#32
  | 6 => 0xB48D4C4D#32
  | 7 => 0x349299A5#32
  | 8 => 0xB4984061#32
  | 9 => 0x349E485F#32
  | 10 => 0xB4A4BA5F#32
  | 11 => 0x34ABA023#32
  | 12 => 0xB4B30492#32
  | 13 => 0x34BAF3E5#32
  | 14 => 0xB4C37BD6#32
  | 15 => 0x34CCABDA#32
  | 16 => 0xB4D69568#32
  | 17 => 0x34E14C49#32
  | 18 => 0xB4ECE6F7#32
  | 19 => 0x34F97F13#32
  | 20 => 0xB50398F7#32
  | 21 => 0x350B1097#32
  | 22 => 0xB51339CD#32
  | 23 => 0x351C2B08#32
  | 24 => 0xB525FE56#32
  | 25 => 0x3530D21D#32
  | 26 => 0xB53CCA00#32
  | 27 => 0x354A0FF9#32
  | 28 => 0xB558D5BB#32
  | 29 => 0x35695670#32
  | 30 => 0xB57BD8F1#32
  | 31 => 0x3588594C#32
  | 32 => 0xB5942572#32
  | 33 => 0x35A19018#32
  | 34 => 0xB5B0E6EF#32
  | 35 => 0x35C28A3B#32
  | 36 => 0xB5D6F23A#32
  | 37 => 0x35EEB658#32
  | 38 => 0xB6054B76#32
  | 39 => 0x3615C529#32
  | 40 => 0xB6296767#32
  | 41 => 0x3641014B#32
  | 42 => 0xB65DA20C#32
  | 43 => 0x368056F2#32
  | 44 => 0xB695FBC4#32
  | 45 => 0x36B0ED61#32
  | 46 => 0xB6D29E9B#32
  | 47 => 0x36FFBDB2#32
  | 48 => 0xB692EE32#32
  | 49 => 0x391EBB1A#32
  | 50 => 0x3B12D0DF#32
  | 51 => 0x3CA0086D#32
  | 52 => 0x3DBAD58B#32
  | 53 => 0x3E6BB748#32
  | 54 => 0x3EA069FE#32
  | 55 => 0x3E6BB748#32
  | 56 => 0x3DBAD58B#32
  | 57 => 0x3CA0086D#32
  | 58 => 0x3B12D0DF#32
  | 59 => 0x391EBB1A#32
  | 60 => 0xB692EE32#32
  | 61 => 0x36FFBDB2#32
  | 62 => 0xB6D29E9B#32
  | 63 => 0x36B0ED61#32
  | 64 => 0xB695FBC4#32
  | 65 => 0x368056F2#32
  | 66 => 0xB65DA20C#32
  | 67 => 0x3641014B#32
  | 68 => 0xB6296767#32
  | 69 => 0x3615C529#32
  | 70 => 0xB6054B76#32
  | 71 => 0x35EEB658#32
  | 72 => 0xB5D6F23A#32
  | 73 => 0x35C28A3B#32
  | 74 => 0xB5B0E6EF#32
  | 75 => 0x35A19018#32
  | 76 => 0xB5942572#32
  | 77 => 0x3588594C#32
  | 78 => 0xB57BD8F1#32
  | 79 => 0x35695670#32
  | 80 => 0xB558D5BB#32
  | 81 => 0x354A0FF9#32
  | 82 => 0xB53CCA00#32
  | 83 => 0x3530D21D#32
  | 84 => 0xB525FE56#32
  | 85 => 0x351C2B08#32
  | 86 => 0xB51339CD#32
  | 87 => 0x350B1097#32
  | 88 => 0xB50398F7#32
  | 89 => 0x34F97F13#32
  | 90 => 0xB4ECE6F7#32
  | 91 => 0x34E14C49#32
  | 92 => 0xB4D69568#32
  | 93 => 0x34CCABDA#32
  | 94 => 0xB4C37BD6#32
  | 95 => 0x34BAF3E5#32
  | 96 => 0xB4B30492#32
  | 97 => 0x34ABA023#32
  | 98 => 0xB4A4BA5F#32
  | 99 => 0x349E485F#32
  | 100 => 0xB4984061#32
  | 101 => 0x349299A5#32
  | 102 => 0xB48D4C4D#32
  | 103 => 0x34885143#32
  | 104 => 0xB483A221#32
  | 105 => 0x347E723F#32
  | 106 => 0xB4762200#32
  | 107 => 0x346E49FF#32
  | 108 => 0xB466E193#32
  | 109 => 0x345FE0DA#32
  | 110 => 0xB45940A1#32
  | 111 => 0x3452FA51#32
  | 112 => 0xB44D07E6#32
  | 113 => 0x344763DA#32
  | 114 => 0xB4420919#32
  | 115 => 0x343CF2FA#32
  | 116 => 0xB4381D32#32
  | 117 => 0x343383CC#32
  | 118 => 0xB42F2322#32
  | 119 => 0x342AF7D2#32
  | 120 => 0xB426FEBD#32
  | 121 => 0x342334FF#32
  | 122 => 0xB41F97EA#32
  | 123 => 0x341C2500#32
  | 124 => 0xB418D9F0#32
  | 125 => 0x3415B495#32
  | 126 => 0xB412B2ED#32
  | 127 => 0x340FD31A#32
  | _ => 0#32

noncomputable abbrev lit0t0_366 (i : Nat) : BitVec 32 := match i % 128 with
  | 0 => 0x340FD31A#32
  | 1 => 0xB40D1360#32
  | 2 => 0x340A721F#32
  | 3 => 0xB407EDD1#32
  | 4 => 0x3405850C#32
  | 5 => 0xB403367C#32
  | 6 => 0x340100E3#32
  | 7 => 0xB3FDC62E#32
  | 8 => 0x33F9B800#32
  | 9 => 0xB3F5D532#32
  | 10 => 0x33F21BD6#32
  | 11 => 0xB3EE8A1F#32
  | 12 => 0x33EB1E5A#32
  | 13 => 0xB3E7D6EF#32
  | 14 => 0x33E4B25D#32
  | 15 => 0xB3E1AF3D#32
  | 16 => 0x33DECC38#32
  | 17 => 0xB3DC0810#32
  | 18 => 0x33D96196#32
  | 19 => 0xB3D6D7AE#32
  | 20 => 0x33D4694B#32
  | 21 => 0xB3D21572#32
  | 22 => 0x33CFDB34#32
  | 23 => 0xB3CDB9B1#32
  | 24 => 0x33CBB015#32
  | 25 => 0xB3C9BD97#32
  | 26 => 0x33C7E17D#32
  | 27 => 0xB3C61B15#32
  | 28 => 0x33C469B8#32
  | 29 => 0xB3C2CCC7#32
  | 30 => 0x33C143B0#32
  | 31 => 0xB3BFCDE6#32
  | 32 => 0x33BE6AE7#32
  | 33 => 0xB3BD1A36#32
  | 34 => 0x33BBDB61#32
  | 35 => 0xB3BAADFB#32
  | 36 => 0x33B9919E#32
  | 37 => 0xB3B885EC#32
  | 38 => 0x33B78A8A#32
  | 39 => 0xB3B69F28#32
  | 40 => 0x33B5C377#32
  | 41 => 0xB3B4F732#32
  | 42 => 0x33B43A15#32
  | 43 => 0xB3B38BE5#32
  | 44 => 0x33B2EC6A#32
  | 45 => 0xB3B25B72#32
  | 46 => 0x33B1D8CF#32
  | 47 => 0xB3B16459#32
  | 48 => 0x33B0FDEA#32
  | 49 => 0xB3B0A563#32
  | 50 => 0x33B05AA9#32
  | 51 => 0xB3B01DA5#32
  | 52 => 0x33AFEE43#32
  | 53 => 0xB3AFCC75#32
  | 54 => 0x33AFB831#32
  | 55 => 0xB3AFB170#32
  | 56 => 0x33AFB831#32
  | 57 => 0xB3AFCC75#32
  | 58 => 0x33AFEE43#32
  | 59 => 0xB3B01DA5#32
  | 60 => 0x33B05AA9#32
  | 61 => 0xB3B0A563#32
  | 62 => 0x33B0FDEA#32
  | 63 => 0xB3B16459#32
  | 64 => 0x33B1D8CF#32
  | 65 => 0xB3B25B72#32
  | 66 => 0x33B2EC6A#32
  | 67 => 0xB3B38BE5#32
  | 68 => 0x33B43A15#32
  | 69 => 0xB3B4F732#32
  | 70 => 0x33B5C377#32
  | 71 => 0xB3B69F28#32
  | 72 => 0x33B78A8A#32
  | 73 => 0xB3B885EC#32
  | 74 => 0x33B9919E#32
  | 75 => 0xB3BAADFB#32
  | 76 => 0x33BBDB61#32
  | 77 => 0xB3BD1A36#32
  | 78 => 0x33BE6AE7#32
  | 79 => 0xB3BFCDE6#32
  | 80 => 0x33C143B0#32
  | 81 => 0xB3C2CCC7#32
  | 82 => 0x33C469B8#32
  | 83 => 0xB3C61B15#32
  | 84 => 0x33C7E17D#32
  | 85 => 0xB3C9BD97#32
  | 86 => 0x33CBB015#32
  | 87 => 0xB3CDB9B1#32
  | 88 => 0x33CFDB34#32
  | 89 => 0xB3D21572#32
  | 90 => 0x33D4694B#32
  | 91 => 0xB3D6D7AE#32
  | 92 => 0x33D96196#32
  | 93 => 0xB3DC0810#32
  | 94 => 0x33DECC38#32
  | 95 => 0xB3E1AF3D#32
  | 96 => 0x33E4B25D#32
  | 97 => 0xB3E7D6EF#32
  | 98 => 0x33EB1E5A#32
  | 99 => 0xB3EE8A1F#32
  | 100 => 0x33F21BD6#32
  | 101 => 0xB3F5D532#32
  | 102 => 0x33F9B800#32
  | 103 => 0xB3FDC62E#32
  | 104 => 0x340100E3#32
  | 105 => 0xB403367C#32
  | 106 => 0x3405850C#32
  | 107 => 0xB407EDD1#32
  | 108 => 0x340A721F#32
  | 109 => 0xB40D1360#32
  | 110 => 0x340FD31A#32
  | 111 => 0xB412B2ED#32
  | 112 => 0x3415B495#32
  | 113 => 0xB418D9F0#32
  | 114 => 0x341C2500#32
  | 115 => 0xB41F97EA#32
  | 116 => 0x342334FF#32
  | 117 => 0xB426FEBD#32
  | 118 => 0x342AF7D2#32
  | 119 => 0xB42F2322#32
  | 120 => 0x343383CC#32
  | 121 => 0xB4381D32#32
  | 122 => 0x343CF2FA#32
  | 123 => 0xB4420919#32
  | 124 => 0x344763DA#32
  | 125 => 0xB44D07E6#32
  | 126 => 0x3452FA51#32
  | 127 => 0xB45940A1#32
  | _ => 0#32

noncomputable abbrev lit0t0_367 (i : Nat) : BitVec 32 := match i % 128 with
  | 0 => 0x345FE0DA#32
  | 1 => 0xB466E193#32
  | 2 => 0x346E49FF#32
  | 3 => 0xB4762200#32
  | 4 => 0x347E723F#32
  | 5 => 0xB483A221#32
  | 6 => 0x34885143#32
  | 7 => 0xB48D4C4D#32
  | 8 => 0x349299A5#32
  | 9 => 0xB4984061#32
  | 10 => 0x349E485F#32
  | 11 => 0xB4A4BA5F#32
  | 12 => 0x34ABA023#32
  | 13 => 0xB4B30492#32
  | 14 => 0x34BAF3E5#32
  | 15 => 0xB4C37BD6#32
  | 16 => 0x34CCABDA#32
  | 17 => 0xB4D69568#32
  | 18 => 0x34E14C49#32
  | 19 => 0xB4ECE6F7#32
  | 20 => 0x34F97F13#32
  | 21 => 0xB50398F7#32
  | 22 => 0x350B1097#32
  | 23 => 0xB51339CD#32
  | 24 => 0x351C2B08#32
  | 25 => 0xB525FE56#32
  | 26 => 0x3530D21D#32
  | 27 => 0xB53CCA00#32
  | 28 => 0x354A0FF9#32
  | 29 => 0xB558D5BB#32
  | 30 => 0x35695670#32
  | 31 => 0xB57BD8F1#32
  | 32 => 0x3588594C#32
  | 33 => 0xB5942572#32
  | 34 => 0x35A19018#32
  | 35 => 0xB5B0E6EF#32
  | 36 => 0x35C28A3B#32
  | 37 => 0xB5D6F23A#32
  | 38 => 0x35EEB658#32
  | 39 => 0xB6054B76#32
  | 40 => 0x3615C529#32
  | 41 => 0xB6296767#32
  | 42 => 0x3641014B#32
  | 43 => 0xB65DA20C#32
  | 44 => 0x368056F2#32
  | 45 => 0xB695FBC4#32
  | 46 => 0x36B0ED61#32
  | 47 => 0xB6D29E9B#32
  | 48 => 0x36FFBDB2#32
  | 49 => 0xB692EE32#32
  | 50 => 0x391EBB1A#32
  | 51 => 0x3B12D0DF#32
  | 52 => 0x3CA0086D#32
  | 53 => 0x3DBAD58B#32
  | 54 => 0x3E6BB748#32
  | 55 => 0x3EA069FE#32
  | 56 => 0x3E6BB748#32
  | 57 => 0x3DBAD58B#32
  | 58 => 0x3CA0086D#32
  | 59 => 0x3B12D0DF#32
  | 60 => 0x391EBB1A#32
  | 61 => 0xB692EE32#32
  | 62 => 0x36FFBDB2#32
  | 63 => 0xB6D29E9B#32
  | 64 => 0x36B0ED61#32
  | 65 => 0xB695FBC4#32
  | 66 => 0x368056F2#32
  | 67 => 0xB65DA20C#32
  | 68 => 0x3641014B#32
  | 69 => 0xB6296767#32
  | 70 => 0x3615C529#32
  | 71 => 0xB6054B76#32
  | 72 => 0x35EEB658#32
  | 73 => 0xB5D6F23A#32
  | 74 => 0x35C28A3B#32
  | 75 => 0xB5B0E6EF#32
  | 76 => 0x35A19018#32
  | 77 => 0xB5942572#32
  | 78 => 0x3588594C#32
  | 79 => 0xB57BD8F1#32
  | 80 => 0x35695670#32
  | 81 => 0xB558D5BB#32
  | 82 => 0x354A0FF9#32
  | 83 => 0xB53CCA00#32
  | 84 => 0x3530D21D#32
  | 85 => 0xB525FE56#32
  | 86 => 0x351C2B08#32
  | 87 => 0xB51339CD#32
  | 88 => 0x350B1097#32
  | 89 => 0xB50398F7#32
  | 90 => 0x34F97F13#32
  | 91 => 0xB4ECE6F7#32
  | 92 => 0x34E14C49#32
  | 93 => 0xB4D69568#32
  | 94 => 0x34CCABDA#32
  | 95 => 0xB4C37BD6#32
  | 96 => 0x34BAF3E5#32
  | 97 => 0xB4B30492#32
  | 98 => 0x34ABA023#32
  | 99 => 0xB4A4BA5F#32
  | 100 => 0x349E485F#32
  | 101 => 0xB4984061#32
  | 102 => 0x349299A5#32
  | 103 => 0xB48D4C4D#32
  | 104 => 0x34885143#32
  | 105 => 0xB483A221#32
  | 106 => 0x347E723F#32
  | 107 => 0xB4762200#32
  | 108 => 0x346E49FF#32
  | 109 => 0xB466E193#32
  | 110 => 0x345FE0DA#32
  | 111 => 0xB45940A1#32
  | 112 => 0x3452FA51#32
  | 113 => 0xB44D07E6#32
  | 114 => 0x344763DA#32
  | 115 => 0xB4420919#32
  | 116 => 0x343CF2FA#32
  | 117 => 0xB4381D32#32
  | 118 => 0x343383CC#32
  | 119 => 0xB42F2322#32
  | 120 => 0x342AF7D2#32
  | 121 => 0xB426FEBD#32
  | 122 => 0x342334FF#32
  | 123 => 0xB41F97EA#32
  | 124 => 0x341C2500#32
  | 125 => 0xB418D9F0#32
  | 126 => 0x3415B495#32
  | 127 => 0xB412B2ED#32
  | _ => 0#32

noncomputable abbrev lit0t0_368 (i : Nat) : BitVec 32 := match i % 128 with
  | 0 => 0xB412B2ED#32
  | 1 => 0x340FD31A#32
  | 2 => 0xB40D1360#32
  | 3 => 0x340A721F#32
  | 4 => 0xB407EDD1#32
  | 5 => 0x3405850C#32
  | 6 => 0xB403367C#32
  | 7 => 0x340100E3#32
  | 8 => 0xB3FDC62E#32
  | 9 => 0x33F9B800#32
  | 10 => 0xB3F5D532#32
  | 11 => 0x33F21BD6#32
  | 12 => 0xB3EE8A1F#32
  | 13 => 0x33EB1E5A#32
  | 14 => 0xB3E7D6EF#32
  | 15 => 0x33E4B25D#32
  | 16 => 0xB3E1AF3D#32
  | 17 => 0x33DECC38#32
  | 18 => 0xB3DC0810#32
  | 19 => 0x33D96196#32
  | 20 => 0xB3D6D7AE#32
  | 21 => 0x33D4694B#32
  | 22 => 0xB3D21572#32
  | 23 => 0x33CFDB34#32
  | 24 => 0xB3CDB9B1#32
  | 25 => 0x33CBB015#32
  | 26 => 0xB3C9BD97#32
  | 27 => 0x33C7E17D#32
  | 28 => 0xB3C61B15#32
  | 29 => 0x33C469B8#32
  | 30 => 0xB3C2CCC7#32
  | 31 => 0x33C143B0#32
  | 32 => 0xB3BFCDE6#32
  | 33 => 0x33BE6AE7#32
  | 34 => 0xB3BD1A36#32
  | 35 => 0x33BBDB61#32
  | 36 => 0xB3BAADFB#32
  | 37 => 0x33B9919E#32
  | 38 => 0xB3B885EC#32
  | 39 => 0x33B78A8A#32
  | 40 => 0xB3B69F28#32
  | 41 => 0x33B5C377#32
  | 42 => 0xB3B4F732#32
  | 43 => 0x33B43A15#32
  | 44 => 0xB3B38BE5#32
  | 45 => 0x33B2EC6A#32
  | 46 => 0xB3B25B72#32
  | 47 => 0x33B1D8CF#32
  | 48 => 0xB3B16459#32
  | 49 => 0x33B0FDEA#32
  | 50 => 0xB3B0A563#32
  | 51 => 0x33B05AA9#32
  | 52 => 0xB3B01DA5#32
  | 53 => 0x33AFEE43#32
  | 54 => 0xB3AFCC75#32
  | 55 => 0x33AFB831#32
  | 56 => 0xB3AFB170#32
  | 57 => 0x33AFB831#32
  | 58 => 0xB3AFCC75#32
  | 59 => 0x33AFEE43#32
  | 60 => 0xB3B01DA5#32
  | 61 => 0x33B05AA9#32
  | 62 => 0xB3B0A563#32
  | 63 => 0x33B0FDEA#32
  | 64 => 0xB3B16459#32
  | 65 => 0x33B1D8CF#32
  | 66 => 0xB3B25B72#32
  | 67 => 0x33B2EC6A#32
  | 68 => 0xB3B38BE5#32
  | 69 => 0x33B43A15#32
  | 70 => 0xB3B4F732#32
  | 71 => 0x33B5C377#32
  | 72 => 0xB3B69F28#32
  | 73 => 0x33B78A8A#32
  | 74 => 0xB3B885EC#32
  | 75 => 0x33B9919E#32
  | 76 => 0xB3BAADFB#32
  | 77 => 0x33BBDB61#32
  | 78 => 0xB3BD1A36#32
  | 79 => 0x33BE6AE7#32
  | 80 => 0xB3BFCDE6#32
  | 81 => 0x33C143B0#32
  | 82 => 0xB3C2CCC7#32
  | 83 => 0x33C469B8#32
  | 84 => 0xB3C61B15#32
  | 85 => 0x33C7E17D#32
  | 86 => 0xB3C9BD97#32
  | 87 => 0x33CBB015#32
  | 88 => 0xB3CDB9B1#32
  | 89 => 0x33CFDB34#32
  | 90 => 0xB3D21572#32
  | 91 => 0x33D4694B#32
  | 92 => 0xB3D6D7AE#32
  | 93 => 0x33D96196#32
  | 94 => 0xB3DC0810#32
  | 95 => 0x33DECC38#32
  | 96 => 0xB3E1AF3D#32
  | 97 => 0x33E4B25D#32
  | 98 => 0xB3E7D6EF#32
  | 99 => 0x33EB1E5A#32
  | 100 => 0xB3EE8A1F#32
  | 101 => 0x33F21BD6#32
  | 102 => 0xB3F5D532#32
  | 103 => 0x33F9B800#32
  | 104 => 0xB3FDC62E#32
  | 105 => 0x340100E3#32
  | 106 => 0xB403367C#32
  | 107 => 0x3405850C#32
  | 108 => 0xB407EDD1#32
  | 109 => 0x340A721F#32
  | 110 => 0xB40D1360#32
  | 111 => 0x340FD31A#32
  | 112 => 0xB412B2ED#32
  | 113 => 0x3415B495#32
  | 114 => 0xB418D9F0#32
  | 115 => 0x341C2500#32
  | 116 => 0xB41F97EA#32
  | 117 => 0x342334FF#32
  | 118 => 0xB426FEBD#32
  | 119 => 0x342AF7D2#32
  | 120 => 0xB42F2322#32
  | 121 => 0x343383CC#32
  | 122 => 0xB4381D32#32
  | 123 => 0x343CF2FA#32
  | 124 => 0xB4420919#32
  | 125 => 0x344763DA#32
  | 126 => 0xB44D07E6#32
  | 127 => 0x3452FA51#32
  | _ => 0#32

noncomputable abbrev lit0t0_369 (i : Nat) : BitVec 32 := match i % 128 with
  | 0 => 0xB45940A1#32
  | 1 => 0x345FE0DA#32
  | 2 => 0xB466E193#32
  | 3 => 0x346E49FF#32
  | 4 => 0xB4762200#32
  | 5 => 0x347E723F#32
  | 6 => 0xB483A221#32
  | 7 => 0x34885143#32
  | 8 => 0xB48D4C4D#32
  | 9 => 0x349299A5#32
  | 10 => 0xB4984061#32
  | 11 => 0x349E485F#32
  | 12 => 0xB4A4BA5F#32
  | 13 => 0x34ABA023#32
  | 14 => 0xB4B30492#32
  | 15 => 0x34BAF3E5#32
  | 16 => 0xB4C37BD6#32
  | 17 => 0x34CCABDA#32
  | 18 => 0xB4D69568#32
  | 19 => 0x34E14C49#32
  | 20 => 0xB4ECE6F7#32
  | 21 => 0x34F97F13#32
  | 22 => 0xB50398F7#32
  | 23 => 0x350B1097#32
  | 24 => 0xB51339CD#32
  | 25 => 0x351C2B08#32
  | 26 => 0xB525FE56#32
  | 27 => 0x3530D21D#32
  | 28 => 0xB53CCA00#32
  | 29 => 0x354A0FF9#32
  | 30 => 0xB558D5BB#32
  | 31 => 0x35695670#32
  | 32 => 0xB57BD8F1#32
  | 33 => 0x3588594C#32
  | 34 => 0xB5942572#32
  | 35 => 0x35A19018#32
  | 36 => 0xB5B0E6EF#32
  | 37 => 0x35C28A3B#32
  | 38 => 0xB5D6F23A#32
  | 39 => 0x35EEB658#32
  | 40 => 0xB6054B76#32
  | 41 => 0x3615C529#32
  | 42 => 0xB6296767#32
  | 43 => 0x3641014B#32
  | 44 => 0xB65DA20C#32
  | 45 => 0x368056F2#32
  | 46 => 0xB695FBC4#32
  | 47 => 0x36B0ED61#32
  | 48 => 0xB6D29E9B#32
  | 49 => 0x36FFBDB2#32
  | 50 => 0xB692EE32#32
  | 51 => 0x391EBB1A#32
  | 52 => 0x3B12D0DF#32
  | 53 => 0x3CA0086D#32
  | 54 => 0x3DBAD58B#32
  | 55 => 0x3E6BB748#32
  | 56 => 0x3EA069FE#32
  | 57 => 0x3E6BB748#32
  | 58 => 0x3DBAD58B#32
  | 59 => 0x3CA0086D#32
  | 60 => 0x3B12D0DF#32
  | 61 => 0x391EBB1A#32
  | 62 => 0xB692EE32#32
  | 63 => 0x36FFBDB2#32
  | 64 => 0xB6D29E9B#32
  | 65 => 0x36B0ED61#32
  | 66 => 0xB695FBC4#32
  | 67 => 0x368056F2#32
  | 68 => 0xB65DA20C#32
  | 69 => 0x3641014B#32
  | 70 => 0xB6296767#32
  | 71 => 0x3615C529#32
  | 72 => 0xB6054B76#32
  | 73 => 0x35EEB658#32
  | 74 => 0xB5D6F23A#32
  | 75 => 0x35C28A3B#32
  | 76 => 0xB5B0E6EF#32
  | 77 => 0x35A19018#32
  | 78 => 0xB5942572#32
  | 79 => 0x3588594C#32
  | 80 => 0xB57BD8F1#32
  | 81 => 0x35695670#32
  | 82 => 0xB558D5BB#32
  | 83 => 0x354A0FF9#32
  | 84 => 0xB53CCA00#32
  | 85 => 0x3530D21D#32
  | 86 => 0xB525FE56#32
  | 87 => 0x351C2B08#32
  | 88 => 0xB51339CD#32
  | 89 => 0x350B1097#32
  | 90 => 0xB50398F7#32
  | 91 => 0x34F97F13#32
  | 92 => 0xB4ECE6F7#32
  | 93 => 0x34E14C49#32
  | 94 => 0xB4D69568#32
  | 95 => 0x34CCABDA#32
  | 96 => 0xB4C37BD6#32
  | 97 => 0x34BAF3E5#32
  | 98 => 0xB4B30492#32
  | 99 => 0x34ABA023#32
  | 100 => 0xB4A4BA5F#32
  | 101 => 0x349E485F#32
  | 102 => 0xB4984061#32
  | 103 => 0x349299A5#32
  | 104 => 0xB48D4C4D#32
  | 105 => 0x34885143#32
  | 106 => 0xB483A221#32
  | 107 => 0x347E723F#32
  | 108 => 0xB4762200#32
  | 109 => 0x346E49FF#32
  | 110 => 0xB466E193#32
  | 111 => 0x345FE0DA#32
  | 112 => 0xB45940A1#32
  | 113 => 0x3452FA51#32
  | 114 => 0xB44D07E6#32
  | 115 => 0x344763DA#32
  | 116 => 0xB4420919#32
  | 117 => 0x343CF2FA#32
  | 118 => 0xB4381D32#32
  | 119 => 0x343383CC#32
  | 120 => 0xB42F2322#32
  | 121 => 0x342AF7D2#32
  | 122 => 0xB426FEBD#32
  | 123 => 0x342334FF#32
  | 124 => 0xB41F97EA#32
  | 125 => 0x341C2500#32
  | 126 => 0xB418D9F0#32
  | 127 => 0x3415B495#32
  | _ => 0#32

noncomputable abbrev lit0t0_370 (i : Nat) : BitVec 32 := match i % 128 with
  | 0 => 0x3415B495#32
  | 1 => 0xB412B2ED#32
  | 2 => 0x340FD31A#32
  | 3 => 0xB40D1360#32
  | 4 => 0x340A721F#32
  | 5 => 0xB407EDD1#32
  | 6 => 0x3405850C#32
  | 7 => 0xB403367C#32
  | 8 => 0x340100E3#32
  | 9 => 0xB3FDC62E#32
  | 10 => 0x33F9B800#32
  | 11 => 0xB3F5D532#32
  | 12 => 0x33F21BD6#32
  | 13 => 0xB3EE8A1F#32
  | 14 => 0x33EB1E5A#32
  | 15 => 0xB3E7D6EF#32
  | 16 => 0x33E4B25D#32
  | 17 => 0xB3E1AF3D#32
  | 18 => 0x33DECC38#32
  | 19 => 0xB3DC0810#32
  | 20 => 0x33D96196#32
  | 21 => 0xB3D6D7AE#32
  | 22 => 0x33D4694B#32
  | 23 => 0xB3D21572#32
  | 24 => 0x33CFDB34#32
  | 25 => 0xB3CDB9B1#32
  | 26 => 0x33CBB015#32
  | 27 => 0xB3C9BD97#32
  | 28 => 0x33C7E17D#32
  | 29 => 0xB3C61B15#32
  | 30 => 0x33C469B8#32
  | 31 => 0xB3C2CCC7#32
  | 32 => 0x33C143B0#32
  | 33 => 0xB3BFCDE6#32
  | 34 => 0x33BE6AE7#32
  | 35 => 0xB3BD1A36#32
  | 36 => 0x33BBDB61#32
  | 37 => 0xB3BAADFB#32
  | 38 => 0x33B9919E#32
  | 39 => 0xB3B885EC#32
  | 40 => 0x33B78A8A#32
  | 41 => 0xB3B69F28#32
  | 42 => 0x33B5C377#32
  | 43 => 0xB3B4F732#32
  | 44 => 0x33B43A15#32
  | 45 => 0xB3B38BE5#32
  | 46 => 0x33B2EC6A#32
  | 47 => 0xB3B25B72#32
  | 48 => 0x33B1D8CF#32
  | 49 => 0xB3B16459#32
  | 50 => 0x33B0FDEA#32
  | 51 => 0xB3B0A563#32
  | 52 => 0x33B05AA9#32
  | 53 => 0xB3B01DA5#32
  | 54 => 0x33AFEE43#32
  | 55 => 0xB3AFCC75#32
  | 56 => 0x33AFB831#32
  | 57 => 0xB3AFB170#32
  | 58 => 0x33AFB831#32
  | 59 => 0xB3AFCC75#32
  | 60 => 0x33AFEE43#32
  | 61 => 0xB3B01DA5#32
  | 62 => 0x33B05AA9#32
  | 63 => 0xB3B0A563#32
  | 64 => 0x33B0FDEA#32
  | 65 => 0xB3B16459#32
  | 66 => 0x33B1D8CF#32
  | 67 => 0xB3B25B72#32
  | 68 => 0x33B2EC6A#32
  | 69 => 0xB3B38BE5#32
  | 70 => 0x33B43A15#32
  | 71 => 0xB3B4F732#32
  | 72 => 0x33B5C377#32
  | 73 => 0xB3B69F28#32
  | 74 => 0x33B78A8A#32
  | 75 => 0xB3B885EC#32
  | 76 => 0x33B9919E#32
  | 77 => 0xB3BAADFB#32
  | 78 => 0x33BBDB61#32
  | 79 => 0xB3BD1A36#32
  | 80 => 0x33BE6AE7#32
  | 81 => 0xB3BFCDE6#32
  | 82 => 0x33C143B0#32
  | 83 => 0xB3C2CCC7#32
  | 84 => 0x33C469B8#32
  | 85 => 0xB3C61B15#32
  | 86 => 0x33C7E17D#32
  | 87 => 0xB3C9BD97#32
  | 88 => 0x33CBB015#32
  | 89 => 0xB3CDB9B1#32
  | 90 => 0x33CFDB34#32
  | 91 => 0xB3D21572#32
  | 92 => 0x33D4694B#32
  | 93 => 0xB3D6D7AE#32
  | 94 => 0x33D96196#32
  | 95 => 0xB3DC0810#32
  | 96 => 0x33DECC38#32
  | 97 => 0xB3E1AF3D#32
  | 98 => 0x33E4B25D#32
  | 99 => 0xB3E7D6EF#32
  | 100 => 0x33EB1E5A#32
  | 101 => 0xB3EE8A1F#32
  | 102 => 0x33F21BD6#32
  | 103 => 0xB3F5D532#32
  | 104 => 0x33F9B800#32
  | 105 => 0xB3FDC62E#32
  | 106 => 0x340100E3#32
  | 107 => 0xB403367C#32
  | 108 => 0x3405850C#32
  | 109 => 0xB407EDD1#32
  | 110 => 0x340A721F#32
  | 111 => 0xB40D1360#32
  | 112 => 0x340FD31A#32
  | 113 => 0xB412B2ED#32
  | 114 => 0x3415B495#32
  | 115 => 0xB418D9F0#32
  | 116 => 0x341C2500#32
  | 117 => 0xB41F97EA#32
  | 118 => 0x342334FF#32
  | 119 => 0xB426FEBD#32
  | 120 => 0x342AF7D2#32
  | 121 => 0xB42F2322#32
  | 122 => 0x343383CC#32
  | 123 => 0xB4381D32#32
  | 124 => 0x343CF2FA#32
  | 125 => 0xB4420919#32
  | 126 => 0x344763DA#32
  | 127 => 0xB44D07E6#32
  | _ => 0#32

noncomputable abbrev lit0t0_371 (i : Nat) : BitVec 32 := match i % 128 with
  | 0 => 0x3452FA51#32
  | 1 => 0xB45940A1#32
  | 2 => 0x345FE0DA#32
  | 3 => 0xB466E193#32
  | 4 => 0x346E49FF#32
  | 5 => 0xB4762200#32
  | 6 => 0x347E723F#32
  | 7 => 0xB483A221#32
  | 8 => 0x34885143#32
  | 9 => 0xB48D4C4D#32
  | 10 => 0x349299A5#32
  | 11 => 0xB4984061#32
  | 12 => 0x349E485F#32
  | 13 => 0xB4A4BA5F#32
  | 14 => 0x34ABA023#32
  | 15 => 0xB4B30492#32
  | 16 => 0x34BAF3E5#32
  | 17 => 0xB4C37BD6#32
  | 18 => 0x34CCABDA#32
  | 19 => 0xB4D69568#32
  | 20 => 0x34E14C49#32
  | 21 => 0xB4ECE6F7#32
  | 22 => 0x34F97F13#32
  | 23 => 0xB50398F7#32
  | 24 => 0x350B1097#32
  | 25 => 0xB51339CD#32
  | 26 => 0x351C2B08#32
  | 27 => 0xB525FE56#32
  | 28 => 0x3530D21D#32
  | 29 => 0xB53CCA00#32
  | 30 => 0x354A0FF9#32
  | 31 => 0xB558D5BB#32
  | 32 => 0x35695670#32
  | 33 => 0xB57BD8F1#32
  | 34 => 0x3588594C#32
  | 35 => 0xB5942572#32
  | 36 => 0x35A19018#32
  | 37 => 0xB5B0E6EF#32
  | 38 => 0x35C28A3B#32
  | 39 => 0xB5D6F23A#32
  | 40 => 0x35EEB658#32
  | 41 => 0xB6054B76#32
  | 42 => 0x3615C529#32
  | 43 => 0xB6296767#32
  | 44 => 0x3641014B#32
  | 45 => 0xB65DA20C#32
  | 46 => 0x368056F2#32
  | 47 => 0xB695FBC4#32
  | 48 => 0x36B0ED61#32
  | 49 => 0xB6D29E9B#32
  | 50 => 0x36FFBDB2#32
  | 51 => 0xB692EE32#32
  | 52 => 0x391EBB1A#32
  | 53 => 0x3B12D0DF#32
  | 54 => 0x3CA0086D#32
  | 55 => 0x3DBAD58B#32
  | 56 => 0x3E6BB748#32
  | 57 => 0x3EA069FE#32
  | 58 => 0x3E6BB748#32
  | 59 => 0x3DBAD58B#32
  | 60 => 0x3CA0086D#32
  | 61 => 0x3B12D0DF#32
  | 62 => 0x391EBB1A#32
  | 63 => 0xB692EE32#32
  | 64 => 0x36FFBDB2#32
  | 65 => 0xB6D29E9B#32
  | 66 => 0x36B0ED61#32
  | 67 => 0xB695FBC4#32
  | 68 => 0x368056F2#32
  | 69 => 0xB65DA20C#32
  | 70 => 0x3641014B#32
  | 71 => 0xB6296767#32
  | 72 => 0x3615C529#32
  | 73 => 0xB6054B76#32
  | 74 => 0x35EEB658#32
  | 75 => 0xB5D6F23A#32
  | 76 => 0x35C28A3B#32
  | 77 => 0xB5B0E6EF#32
  | 78 => 0x35A19018#32
  | 79 => 0xB5942572#32
  | 80 => 0x3588594C#32
  | 81 => 0xB57BD8F1#32
  | 82 => 0x35695670#32
  | 83 => 0xB558D5BB#32
  | 84 => 0x354A0FF9#32
  | 85 => 0xB53CCA00#32
  | 86 => 0x3530D21D#32
  | 87 => 0xB525FE56#32
  | 88 => 0x351C2B08#32
  | 89 => 0xB51339CD#32
  | 90 => 0x350B1097#32
  | 91 => 0xB50398F7#32
  | 92 => 0x34F97F13#32
  | 93 => 0xB4ECE6F7#32
  | 94 => 0x34E14C49#32
  | 95 => 0xB4D69568#32
  | 96 => 0x34CCABDA#32
  | 97 => 0xB4C37BD6#32
  | 98 => 0x34BAF3E5#32
  | 99 => 0xB4B30492#32
  | 100 => 0x34ABA023#32
  | 101 => 0xB4A4BA5F#32
  | 102 => 0x349E485F#32
  | 103 => 0xB4984061#32
  | 104 => 0x349299A5#32
  | 105 => 0xB48D4C4D#32
  | 106 => 0x34885143#32
  | 107 => 0xB483A221#32
  | 108 => 0x347E723F#32
  | 109 => 0xB4762200#32
  | 110 => 0x346E49FF#32
  | 111 => 0xB466E193#32
  | 112 => 0x345FE0DA#32
  | 113 => 0xB45940A1#32
  | 114 => 0x3452FA51#32
  | 115 => 0xB44D07E6#32
  | 116 => 0x344763DA#32
  | 117 => 0xB4420919#32
  | 118 => 0x343CF2FA#32
  | 119 => 0xB4381D32#32
  | 120 => 0x343383CC#32
  | 121 => 0xB42F2322#32
  | 122 => 0x342AF7D2#32
  | 123 => 0xB426FEBD#32
  | 124 => 0x342334FF#32
  | 125 => 0xB41F97EA#32
  | 126 => 0x341C2500#32
  | 127 => 0xB418D9F0#32
  | _ => 0#32

noncomputable abbrev lit0t0_372 (i : Nat) : BitVec 32 := match i % 128 with
  | 0 => 0xB418D9F0#32
  | 1 => 0x3415B495#32
  | 2 => 0xB412B2ED#32
  | 3 => 0x340FD31A#32
  | 4 => 0xB40D1360#32
  | 5 => 0x340A721F#32
  | 6 => 0xB407EDD1#32
  | 7 => 0x3405850C#32
  | 8 => 0xB403367C#32
  | 9 => 0x340100E3#32
  | 10 => 0xB3FDC62E#32
  | 11 => 0x33F9B800#32
  | 12 => 0xB3F5D532#32
  | 13 => 0x33F21BD6#32
  | 14 => 0xB3EE8A1F#32
  | 15 => 0x33EB1E5A#32
  | 16 => 0xB3E7D6EF#32
  | 17 => 0x33E4B25D#32
  | 18 => 0xB3E1AF3D#32
  | 19 => 0x33DECC38#32
  | 20 => 0xB3DC0810#32
  | 21 => 0x33D96196#32
  | 22 => 0xB3D6D7AE#32
  | 23 => 0x33D4694B#32
  | 24 => 0xB3D21572#32
  | 25 => 0x33CFDB34#32
  | 26 => 0xB3CDB9B1#32
  | 27 => 0x33CBB015#32
  | 28 => 0xB3C9BD97#32
  | 29 => 0x33C7E17D#32
  | 30 => 0xB3C61B15#32
  | 31 => 0x33C469B8#32
  | 32 => 0xB3C2CCC7#32
  | 33 => 0x33C143B0#32
  | 34 => 0xB3BFCDE6#32
  | 35 => 0x33BE6AE7#32
  | 36 => 0xB3BD1A36#32
  | 37 => 0x33BBDB61#32
  | 38 => 0xB3BAADFB#32
  | 39 => 0x33B9919E#32
  | 40 => 0xB3B885EC#32
  | 41 => 0x33B78A8A#32
  | 42 => 0xB3B69F28#32
  | 43 => 0x33B5C377#32
  | 44 => 0xB3B4F732#32
  | 45 => 0x33B43A15#32
  | 46 => 0xB3B38BE5#32
  | 47 => 0x33B2EC6A#32
  | 48 => 0xB3B25B72#32
  | 49 => 0x33B1D8CF#32
  | 50 => 0xB3B16459#32
  | 51 => 0x33B0FDEA#32
  | 52 => 0xB3B0A563#32
  | 53 => 0x33B05AA9#32
  | 54 => 0xB3B01DA5#32
  | 55 => 0x33AFEE43#32
  | 56 => 0xB3AFCC75#32
  | 57 => 0x33AFB831#32
  | 58 => 0xB3AFB170#32
  | 59 => 0x33AFB831#32
  | 60 => 0xB3AFCC75#32
  | 61 => 0x33AFEE43#32
  | 62 => 0xB3B01DA5#32
  | 63 => 0x33B05AA9#32
  | 64 => 0xB3B0A563#32
  | 65 => 0x33B0FDEA#32
  | 66 => 0xB3B16459#32
  | 67 => 0x33B1D8CF#32
  | 68 => 0xB3B25B72#32
  | 69 => 0x33B2EC6A#32
  | 70 => 0xB3B38BE5#32
  | 71 => 0x33B43A15#32
  | 72 => 0xB3B4F732#32
  | 73 => 0x33B5C377#32
  | 74 => 0xB3B69F28#32
  | 75 => 0x33B78A8A#32
  | 76 => 0xB3B885EC#32
  | 77 => 0x33B9919E#32
  | 78 => 0xB3BAADFB#32
  | 79 => 0x33BBDB61#32
  | 80 => 0xB3BD1A36#32
  | 81 => 0x33BE6AE7#32
  | 82 => 0xB3BFCDE6#32
  | 83 => 0x33C143B0#32
  | 84 => 0xB3C2CCC7#32
  | 85 => 0x33C469B8#32
  | 86 => 0xB3C61B15#32
  | 87 => 0x33C7E17D#32
  | 88 => 0xB3C9BD97#32
  | 89 => 0x33CBB015#32
  | 90 => 0xB3CDB9B1#32
  | 91 => 0x33CFDB34#32
  | 92 => 0xB3D21572#32
  | 93 => 0x33D4694B#32
  | 94 => 0xB3D6D7AE#32
  | 95 => 0x33D96196#32
  | 96 => 0xB3DC0810#32
  | 97 => 0x33DECC38#32
  | 98 => 0xB3E1AF3D#32
  | 99 => 0x33E4B25D#32
  | 100 => 0xB3E7D6EF#32
  | 101 => 0x33EB1E5A#32
  | 102 => 0xB3EE8A1F#32
  | 103 => 0x33F21BD6#32
  | 104 => 0xB3F5D532#32
  | 105 => 0x33F9B800#32
  | 106 => 0xB3FDC62E#32
  | 107 => 0x340100E3#32
  | 108 => 0xB403367C#32
  | 109 => 0x3405850C#32
  | 110 => 0xB407EDD1#32
  | 111 => 0x340A721F#32
  | 112 => 0xB40D1360#32
  | 113 => 0x340FD31A#32
  | 114 => 0xB412B2ED#32
  | 115 => 0x3415B495#32
  | 116 => 0xB418D9F0#32
  | 117 => 0x341C2500#32
  | 118 => 0xB41F97EA#32
  | 119 => 0x342334FF#32
  | 120 => 0xB426FEBD#32
  | 121 => 0x342AF7D2#32
  | 122 => 0xB42F2322#32
  | 123 => 0x343383CC#32
  | 124 => 0xB4381D32#32
  | 125 => 0x343CF2FA#32
  | 126 => 0xB4420919#32
  | 127 => 0x344763DA#32
  | _ => 0#32

noncomputable abbrev lit0t0_373 (i : Nat) : BitVec 32 := match i % 128 with
  | 0 => 0xB44D07E6#32
  | 1 => 0x3452FA51#32
  | 2 => 0xB45940A1#32
  | 3 => 0x345FE0DA#32
  | 4 => 0xB466E193#32
  | 5 => 0x346E49FF#32
  | 6 => 0xB4762200#32
  | 7 => 0x347E723F#32
  | 8 => 0xB483A221#32
  | 9 => 0x34885143#32
  | 10 => 0xB48D4C4D#32
  | 11 => 0x349299A5#32
  | 12 => 0xB4984061#32
  | 13 => 0x349E485F#32
  | 14 => 0xB4A4BA5F#32
  | 15 => 0x34ABA023#32
  | 16 => 0xB4B30492#32
  | 17 => 0x34BAF3E5#32
  | 18 => 0xB4C37BD6#32
  | 19 => 0x34CCABDA#32
  | 20 => 0xB4D69568#32
  | 21 => 0x34E14C49#32
  | 22 => 0xB4ECE6F7#32
  | 23 => 0x34F97F13#32
  | 24 => 0xB50398F7#32
  | 25 => 0x350B1097#32
  | 26 => 0xB51339CD#32
  | 27 => 0x351C2B08#32
  | 28 => 0xB525FE56#32
  | 29 => 0x3530D21D#32
  | 30 => 0xB53CCA00#32
  | 31 => 0x354A0FF9#32
  | 32 => 0xB558D5BB#32
  | 33 => 0x35695670#32
  | 34 => 0xB57BD8F1#32
  | 35 => 0x3588594C#32
  | 36 => 0xB5942572#32
  | 37 => 0x35A19018#32
  | 38 => 0xB5B0E6EF#32
  | 39 => 0x35C28A3B#32
  | 40 => 0xB5D6F23A#32
  | 41 => 0x35EEB658#32
  | 42 => 0xB6054B76#32
  | 43 => 0x3615C529#32
  | 44 => 0xB6296767#32
  | 45 => 0x3641014B#32
  | 46 => 0xB65DA20C#32
  | 47 => 0x368056F2#32
  | 48 => 0xB695FBC4#32
  | 49 => 0x36B0ED61#32
  | 50 => 0xB6D29E9B#32
  | 51 => 0x36FFBDB2#32
  | 52 => 0xB692EE32#32
  | 53 => 0x391EBB1A#32
  | 54 => 0x3B12D0DF#32
  | 55 => 0x3CA0086D#32
  | 56 => 0x3DBAD58B#32
  | 57 => 0x3E6BB748#32
  | 58 => 0x3EA069FE#32
  | 59 => 0x3E6BB748#32
  | 60 => 0x3DBAD58B#32
  | 61 => 0x3CA0086D#32
  | 62 => 0x3B12D0DF#32
  | 63 => 0x391EBB1A#32
  | 64 => 0xB692EE32#32
  | 65 => 0x36FFBDB2#32
  | 66 => 0xB6D29E9B#32
  | 67 => 0x36B0ED61#32
  | 68 => 0xB695FBC4#32
  | 69 => 0x368056F2#32
  | 70 => 0xB65DA20C#32
  | 71 => 0x3641014B#32
  | 72 => 0xB6296767#32
  | 73 => 0x3615C529#32
  | 74 => 0xB6054B76#32
  | 75 => 0x35EEB658#32
  | 76 => 0xB5D6F23A#32
  | 77 => 0x35C28A3B#32
  | 78 => 0xB5B0E6EF#32
  | 79 => 0x35A19018#32
  | 80 => 0xB5942572#32
  | 81 => 0x3588594C#32
  | 82 => 0xB57BD8F1#32
  | 83 => 0x35695670#32
  | 84 => 0xB558D5BB#32
  | 85 => 0x354A0FF9#32
  | 86 => 0xB53CCA00#32
  | 87 => 0x3530D21D#32
  | 88 => 0xB525FE56#32
  | 89 => 0x351C2B08#32
  | 90 => 0xB51339CD#32
  | 91 => 0x350B1097#32
  | 92 => 0xB50398F7#32
  | 93 => 0x34F97F13#32
  | 94 => 0xB4ECE6F7#32
  | 95 => 0x34E14C49#32
  | 96 => 0xB4D69568#32
  | 97 => 0x34CCABDA#32
  | 98 => 0xB4C37BD6#32
  | 99 => 0x34BAF3E5#32
  | 100 => 0xB4B30492#32
  | 101 => 0x34ABA023#32
  | 102 => 0xB4A4BA5F#32
  | 103 => 0x349E485F#32
  | 104 => 0xB4984061#32
  | 105 => 0x349299A5#32
  | 106 => 0xB48D4C4D#32
  | 107 => 0x34885143#32
  | 108 => 0xB483A221#32
  | 109 => 0x347E723F#32
  | 110 => 0xB4762200#32
  | 111 => 0x346E49FF#32
  | 112 => 0xB466E193#32
  | 113 => 0x345FE0DA#32
  | 114 => 0xB45940A1#32
  | 115 => 0x3452FA51#32
  | 116 => 0xB44D07E6#32
  | 117 => 0x344763DA#32
  | 118 => 0xB4420919#32
  | 119 => 0x343CF2FA#32
  | 120 => 0xB4381D32#32
  | 121 => 0x343383CC#32
  | 122 => 0xB42F2322#32
  | 123 => 0x342AF7D2#32
  | 124 => 0xB426FEBD#32
  | 125 => 0x342334FF#32
  | 126 => 0xB41F97EA#32
  | 127 => 0x341C2500#32
  | _ => 0#32

noncomputable abbrev lit0t0_374 (i : Nat) : BitVec 32 := match i % 128 with
  | 0 => 0x341C2500#32
  | 1 => 0xB418D9F0#32
  | 2 => 0x3415B495#32
  | 3 => 0xB412B2ED#32
  | 4 => 0x340FD31A#32
  | 5 => 0xB40D1360#32
  | 6 => 0x340A721F#32
  | 7 => 0xB407EDD1#32
  | 8 => 0x3405850C#32
  | 9 => 0xB403367C#32
  | 10 => 0x340100E3#32
  | 11 => 0xB3FDC62E#32
  | 12 => 0x33F9B800#32
  | 13 => 0xB3F5D532#32
  | 14 => 0x33F21BD6#32
  | 15 => 0xB3EE8A1F#32
  | 16 => 0x33EB1E5A#32
  | 17 => 0xB3E7D6EF#32
  | 18 => 0x33E4B25D#32
  | 19 => 0xB3E1AF3D#32
  | 20 => 0x33DECC38#32
  | 21 => 0xB3DC0810#32
  | 22 => 0x33D96196#32
  | 23 => 0xB3D6D7AE#32
  | 24 => 0x33D4694B#32
  | 25 => 0xB3D21572#32
  | 26 => 0x33CFDB34#32
  | 27 => 0xB3CDB9B1#32
  | 28 => 0x33CBB015#32
  | 29 => 0xB3C9BD97#32
  | 30 => 0x33C7E17D#32
  | 31 => 0xB3C61B15#32
  | 32 => 0x33C469B8#32
  | 33 => 0xB3C2CCC7#32
  | 34 => 0x33C143B0#32
  | 35 => 0xB3BFCDE6#32
  | 36 => 0x33BE6AE7#32
  | 37 => 0xB3BD1A36#32
  | 38 => 0x33BBDB61#32
  | 39 => 0xB3BAADFB#32
  | 40 => 0x33B9919E#32
  | 41 => 0xB3B885EC#32
  | 42 => 0x33B78A8A#32
  | 43 => 0xB3B69F28#32
  | 44 => 0x33B5C377#32
  | 45 => 0xB3B4F732#32
  | 46 => 0x33B43A15#32
  | 47 => 0xB3B38BE5#32
  | 48 => 0x33B2EC6A#32
  | 49 => 0xB3B25B72#32
  | 50 => 0x33B1D8CF#32
  | 51 => 0xB3B16459#32
  | 52 => 0x33B0FDEA#32
  | 53 => 0xB3B0A563#32
  | 54 => 0x33B05AA9#32
  | 55 => 0xB3B01DA5#32
  | 56 => 0x33AFEE43#32
  | 57 => 0xB3AFCC75#32
  | 58 => 0x33AFB831#32
  | 59 => 0xB3AFB170#32
  | 60 => 0x33AFB831#32
  | 61 => 0xB3AFCC75#32
  | 62 => 0x33AFEE43#32
  | 63 => 0xB3B01DA5#32
  | 64 => 0x33B05AA9#32
  | 65 => 0xB3B0A563#32
  | 66 => 0x33B0FDEA#32
  | 67 => 0xB3B16459#32
  | 68 => 0x33B1D8CF#32
  | 69 => 0xB3B25B72#32
  | 70 => 0x33B2EC6A#32
  | 71 => 0xB3B38BE5#32
  | 72 => 0x33B43A15#32
  | 73 => 0xB3B4F732#32
  | 74 => 0x33B5C377#32
  | 75 => 0xB3B69F28#32
  | 76 => 0x33B78A8A#32
  | 77 => 0xB3B885EC#32
  | 78 => 0x33B9919E#32
  | 79 => 0xB3BAADFB#32
  | 80 => 0x33BBDB61#32
  | 81 => 0xB3BD1A36#32
  | 82 => 0x33BE6AE7#32
  | 83 => 0xB3BFCDE6#32
  | 84 => 0x33C143B0#32
  | 85 => 0xB3C2CCC7#32
  | 86 => 0x33C469B8#32
  | 87 => 0xB3C61B15#32
  | 88 => 0x33C7E17D#32
  | 89 => 0xB3C9BD97#32
  | 90 => 0x33CBB015#32
  | 91 => 0xB3CDB9B1#32
  | 92 => 0x33CFDB34#32
  | 93 => 0xB3D21572#32
  | 94 => 0x33D4694B#32
  | 95 => 0xB3D6D7AE#32
  | 96 => 0x33D96196#32
  | 97 => 0xB3DC0810#32
  | 98 => 0x33DECC38#32
  | 99 => 0xB3E1AF3D#32
  | 100 => 0x33E4B25D#32
  | 101 => 0xB3E7D6EF#32
  | 102 => 0x33EB1E5A#32
  | 103 => 0xB3EE8A1F#32
  | 104 => 0x33F21BD6#32
  | 105 => 0xB3F5D532#32
  | 106 => 0x33F9B800#32
  | 107 => 0xB3FDC62E#32
  | 108 => 0x340100E3#32
  | 109 => 0xB403367C#32
  | 110 => 0x3405850C#32
  | 111 => 0xB407EDD1#32
  | 112 => 0x340A721F#32
  | 113 => 0xB40D1360#32
  | 114 => 0x340FD31A#32
  | 115 => 0xB412B2ED#32
  | 116 => 0x3415B495#32
  | 117 => 0xB418D9F0#32
  | 118 => 0x341C2500#32
  | 119 => 0xB41F97EA#32
  | 120 => 0x342334FF#32
  | 121 => 0xB426FEBD#32
  | 122 => 0x342AF7D2#32
  | 123 => 0xB42F2322#32
  | 124 => 0x343383CC#32
  | 125 => 0xB4381D32#32
  | 126 => 0x343CF2FA#32
  | 127 => 0xB4420919#32
  | _ => 0#32

noncomputable abbrev lit0t0_375 (i : Nat) : BitVec 32 := match i % 128 with
  | 0 => 0x344763DA#32
  | 1 => 0xB44D07E6#32
  | 2 => 0x3452FA51#32
  | 3 => 0xB45940A1#32
  | 4 => 0x345FE0DA#32
  | 5 => 0xB466E193#32
  | 6 => 0x346E49FF#32
  | 7 => 0xB4762200#32
  | 8 => 0x347E723F#32
  | 9 => 0xB483A221#32
  | 10 => 0x34885143#32
  | 11 => 0xB48D4C4D#32
  | 12 => 0x349299A5#32
  | 13 => 0xB4984061#32
  | 14 => 0x349E485F#32
  | 15 => 0xB4A4BA5F#32
  | 16 => 0x34ABA023#32
  | 17 => 0xB4B30492#32
  | 18 => 0x34BAF3E5#32
  | 19 => 0xB4C37BD6#32
  | 20 => 0x34CCABDA#32
  | 21 => 0xB4D69568#32
  | 22 => 0x34E14C49#32
  | 23 => 0xB4ECE6F7#32
  | 24 => 0x34F97F13#32
  | 25 => 0xB50398F7#32
  | 26 => 0x350B1097#32
  | 27 => 0xB51339CD#32
  | 28 => 0x351C2B08#32
  | 29 => 0xB525FE56#32
  | 30 => 0x3530D21D#32
  | 31 => 0xB53CCA00#32
  | 32 => 0x354A0FF9#32
  | 33 => 0xB558D5BB#32
  | 34 => 0x35695670#32
  | 35 => 0xB57BD8F1#32
  | 36 => 0x3588594C#32
  | 37 => 0xB5942572#32
  | 38 => 0x35A19018#32
  | 39 => 0xB5B0E6EF#32
  | 40 => 0x35C28A3B#32
  | 41 => 0xB5D6F23A#32
  | 42 => 0x35EEB658#32
  | 43 => 0xB6054B76#32
  | 44 => 0x3615C529#32
  | 45 => 0xB6296767#32
  | 46 => 0x3641014B#32
  | 47 => 0xB65DA20C#32
  | 48 => 0x368056F2#32
  | 49 => 0xB695FBC4#32
  | 50 => 0x36B0ED61#32
  | 51 => 0xB6D29E9B#32
  | 52 => 0x36FFBDB2#32
  | 53 => 0xB692EE32#32
  | 54 => 0x391EBB1A#32
  | 55 => 0x3B12D0DF#32
  | 56 => 0x3CA0086D#32
  | 57 => 0x3DBAD58B#32
  | 58 => 0x3E6BB748#32
  | 59 => 0x3EA069FE#32
  | 60 => 0x3E6BB748#32
  | 61 => 0x3DBAD58B#32
  | 62 => 0x3CA0086D#32
  | 63 => 0x3B12D0DF#32
  | 64 => 0x391EBB1A#32
  | 65 => 0xB692EE32#32
  | 66 => 0x36FFBDB2#32
  | 67 => 0xB6D29E9B#32
  | 68 => 0x36B0ED61#32
  | 69 => 0xB695FBC4#32
  | 70 => 0x368056F2#32
  | 71 => 0xB65DA20C#32
  | 72 => 0x3641014B#32
  | 73 => 0xB6296767#32
  | 74 => 0x3615C529#32
  | 75 => 0xB6054B76#32
  | 76 => 0x35EEB658#32
  | 77 => 0xB5D6F23A#32
  | 78 => 0x35C28A3B#32
  | 79 => 0xB5B0E6EF#32
  | 80 => 0x35A19018#32
  | 81 => 0xB5942572#32
  | 82 => 0x3588594C#32
  | 83 => 0xB57BD8F1#32
  | 84 => 0x35695670#32
  | 85 => 0xB558D5BB#32
  | 86 => 0x354A0FF9#32
  | 87 => 0xB53CCA00#32
  | 88 => 0x3530D21D#32
  | 89 => 0xB525FE56#32
  | 90 => 0x351C2B08#32
  | 91 => 0xB51339CD#32
  | 92 => 0x350B1097#32
  | 93 => 0xB50398F7#32
  | 94 => 0x34F97F13#32
  | 95 => 0xB4ECE6F7#32
  | 96 => 0x34E14C49#32
  | 97 => 0xB4D69568#32
  | 98 => 0x34CCABDA#32
  | 99 => 0xB4C37BD6#32
  | 100 => 0x34BAF3E5#32
  | 101 => 0xB4B30492#32
  | 102 => 0x34ABA023#32
  | 103 => 0xB4A4BA5F#32
  | 104 => 0x349E485F#32
  | 105 => 0xB4984061#32
  | 106 => 0x349299A5#32
  | 107 => 0xB48D4C4D#32
  | 108 => 0x34885142#32
  | 109 => 0xB483A221#32
  | 110 => 0x347E723F#32
  | 111 => 0xB4762200#32
  | 112 => 0x346E49FF#32
  | 113 => 0xB466E193#32
  | 114 => 0x345FE0DA#32
  | 115 => 0xB45940A1#32
  | 116 => 0x3452FA51#32
  | 117 => 0xB44D07E6#32
  | 118 => 0x344763DA#32
  | 119 => 0xB4420919#32
  | 120 => 0x343CF2FA#32
  | 121 => 0xB4381D32#32
  | 122 => 0x343383CC#32
  | 123 => 0xB42F2322#32
  | 124 => 0x342AF7D2#32
  | 125 => 0xB426FEBD#32
  | 126 => 0x342334FF#32
  | 127 => 0xB41F97EA#32
  | _ => 0#32

noncomputable abbrev lit0t0_376 (i : Nat) : BitVec 32 := match i % 128 with
  | 0 => 0xB41F97EA#32
  | 1 => 0x341C2500#32
  | 2 => 0xB418D9F0#32
  | 3 => 0x3415B495#32
  | 4 => 0xB412B2ED#32
  | 5 => 0x340FD31A#32
  | 6 => 0xB40D1360#32
  | 7 => 0x340A721F#32
  | 8 => 0xB407EDD1#32
  | 9 => 0x3405850C#32
  | 10 => 0xB403367C#32
  | 11 => 0x340100E3#32
  | 12 => 0xB3FDC62E#32
  | 13 => 0x33F9B800#32
  | 14 => 0xB3F5D532#32
  | 15 => 0x33F21BD6#32
  | 16 => 0xB3EE8A1F#32
  | 17 => 0x33EB1E5A#32
  | 18 => 0xB3E7D6EF#32
  | 19 => 0x33E4B25D#32
  | 20 => 0xB3E1AF3D#32
  | 21 => 0x33DECC38#32
  | 22 => 0xB3DC0810#32
  | 23 => 0x33D96196#32
  | 24 => 0xB3D6D7AE#32
  | 25 => 0x33D4694B#32
  | 26 => 0xB3D21572#32
  | 27 => 0x33CFDB34#32
  | 28 => 0xB3CDB9B1#32
  | 29 => 0x33CBB015#32
  | 30 => 0xB3C9BD97#32
  | 31 => 0x33C7E17D#32
  | 32 => 0xB3C61B15#32
  | 33 => 0x33C469B8#32
  | 34 => 0xB3C2CCC7#32
  | 35 => 0x33C143B0#32
  | 36 => 0xB3BFCDE6#32
  | 37 => 0x33BE6AE7#32
  | 38 => 0xB3BD1A36#32
  | 39 => 0x33BBDB61#32
  | 40 => 0xB3BAADFB#32
  | 41 => 0x33B9919E#32
  | 42 => 0xB3B885EC#32
  | 43 => 0x33B78A8A#32
  | 44 => 0xB3B69F28#32
  | 45 => 0x33B5C377#32
  | 46 => 0xB3B4F732#32
  | 47 => 0x33B43A15#32
  | 48 => 0xB3B38BE5#32
  | 49 => 0x33B2EC6A#32
  | 50 => 0xB3B25B72#32
  | 51 => 0x33B1D8CF#32
  | 52 => 0xB3B16459#32
  | 53 => 0x33B0FDEA#32
  | 54 => 0xB3B0A563#32
  | 55 => 0x33B05AA9#32
  | 56 => 0xB3B01DA5#32
  | 57 => 0x33AFEE43#32
  | 58 => 0xB3AFCC75#32
  | 59 => 0x33AFB831#32
  | 60 => 0xB3AFB170#32
  | 61 => 0x33AFB831#32
  | 62 => 0xB3AFCC75#32
  | 63 => 0x33AFEE43#32
  | 64 => 0xB3B01DA5#32
  | 65 => 0x33B05AA9#32
  | 66 => 0xB3B0A563#32
  | 67 => 0x33B0FDEA#32
  | 68 => 0xB3B16459#32
  | 69 => 0x33B1D8CF#32
  | 70 => 0xB3B25B72#32
  | 71 => 0x33B2EC6A#32
  | 72 => 0xB3B38BE5#32
  | 73 => 0x33B43A15#32
  | 74 => 0xB3B4F732#32
  | 75 => 0x33B5C377#32
  | 76 => 0xB3B69F28#32
  | 77 => 0x33B78A8A#32
  | 78 => 0xB3B885EC#32
  | 79 => 0x33B9919E#32
  | 80 => 0xB3BAADFB#32
  | 81 => 0x33BBDB61#32
  | 82 => 0xB3BD1A36#32
  | 83 => 0x33BE6AE7#32
  | 84 => 0xB3BFCDE6#32
  | 85 => 0x33C143B0#32
  | 86 => 0xB3C2CCC7#32
  | 87 => 0x33C469B8#32
  | 88 => 0xB3C61B15#32
  | 89 => 0x33C7E17D#32
  | 90 => 0xB3C9BD97#32
  | 91 => 0x33CBB015#32
  | 92 => 0xB3CDB9B1#32
  | 93 => 0x33CFDB34#32
  | 94 => 0xB3D21572#32
  | 95 => 0x33D4694B#32
  | 96 => 0xB3D6D7AE#32
  | 97 => 0x33D96196#32
  | 98 => 0xB3DC0810#32
  | 99 => 0x33DECC38#32
  | 100 => 0xB3E1AF3D#32
  | 101 => 0x33E4B25D#32
  | 102 => 0xB3E7D6EF#32
  | 103 => 0x33EB1E5A#32
  | 104 => 0xB3EE8A1F#32
  | 105 => 0x33F21BD6#32
  | 106 => 0xB3F5D532#32
  | 107 => 0x33F9B800#32
  | 108 => 0xB3FDC62E#32
  | 109 => 0x340100E3#32
  | 110 => 0xB403367C#32
  | 111 => 0x3405850C#32
  | 112 => 0xB407EDD1#32
  | 113 => 0x340A721F#32
  | 114 => 0xB40D1360#32
  | 115 => 0x340FD31A#32
  | 116 => 0xB412B2ED#32
  | 117 => 0x3415B495#32
  | 118 => 0xB418D9F0#32
  | 119 => 0x341C2500#32
  | 120 => 0xB41F97EA#32
  | 121 => 0x342334FF#32
  | 122 => 0xB426FEBD#32
  | 123 => 0x342AF7D2#32
  | 124 => 0xB42F2322#32
  | 125 => 0x343383CC#32
  | 126 => 0xB4381D32#32
  | 127 => 0x343CF2FA#32
  | _ => 0#32

noncomputable abbrev lit0t0_377 (i : Nat) : BitVec 32 := match i % 128 with
  | 0 => 0xB4420919#32
  | 1 => 0x344763DA#32
  | 2 => 0xB44D07E6#32
  | 3 => 0x3452FA51#32
  | 4 => 0xB45940A1#32
  | 5 => 0x345FE0DA#32
  | 6 => 0xB466E193#32
  | 7 => 0x346E49FF#32
  | 8 => 0xB4762200#32
  | 9 => 0x347E723F#32
  | 10 => 0xB483A221#32
  | 11 => 0x34885142#32
  | 12 => 0xB48D4C4D#32
  | 13 => 0x349299A5#32
  | 14 => 0xB4984061#32
  | 15 => 0x349E485F#32
  | 16 => 0xB4A4BA5F#32
  | 17 => 0x34ABA023#32
  | 18 => 0xB4B30492#32
  | 19 => 0x34BAF3E5#32
  | 20 => 0xB4C37BD6#32
  | 21 => 0x34CCABDA#32
  | 22 => 0xB4D69568#32
  | 23 => 0x34E14C49#32
  | 24 => 0xB4ECE6F7#32
  | 25 => 0x34F97F13#32
  | 26 => 0xB50398F7#32
  | 27 => 0x350B1097#32
  | 28 => 0xB51339CD#32
  | 29 => 0x351C2B08#32
  | 30 => 0xB525FE56#32
  | 31 => 0x3530D21D#32
  | 32 => 0xB53CCA00#32
  | 33 => 0x354A0FF9#32
  | 34 => 0xB558D5BB#32
  | 35 => 0x35695670#32
  | 36 => 0xB57BD8F1#32
  | 37 => 0x3588594C#32
  | 38 => 0xB5942572#32
  | 39 => 0x35A19018#32
  | 40 => 0xB5B0E6EF#32
  | 41 => 0x35C28A3B#32
  | 42 => 0xB5D6F23A#32
  | 43 => 0x35EEB658#32
  | 44 => 0xB6054B76#32
  | 45 => 0x3615C529#32
  | 46 => 0xB6296767#32
  | 47 => 0x3641014B#32
  | 48 => 0xB65DA20C#32
  | 49 => 0x368056F2#32
  | 50 => 0xB695FBC4#32
  | 51 => 0x36B0ED61#32
  | 52 => 0xB6D29E9B#32
  | 53 => 0x36FFBDB2#32
  | 54 => 0xB692EE32#32
  | 55 => 0x391EBB1A#32
  | 56 => 0x3B12D0DF#32
  | 57 => 0x3CA0086D#32
  | 58 => 0x3DBAD58B#32
  | 59 => 0x3E6BB748#32
  | 60 => 0x3EA069FE#32
  | 61 => 0x3E6BB748#32
  | 62 => 0x3DBAD58B#32
  | 63 => 0x3CA0086D#32
  | 64 => 0x3B12D0DF#32
  | 65 => 0x391EBB1A#32
  | 66 => 0xB692EE32#32
  | 67 => 0x36FFBDB2#32
  | 68 => 0xB6D29E9B#32
  | 69 => 0x36B0ED61#32
  | 70 => 0xB695FBC4#32
  | 71 => 0x368056F2#32
  | 72 => 0xB65DA20C#32
  | 73 => 0x3641014B#32
  | 74 => 0xB6296767#32
  | 75 => 0x3615C529#32
  | 76 => 0xB6054B76#32
  | 77 => 0x35EEB658#32
  | 78 => 0xB5D6F23A#32
  | 79 => 0x35C28A3B#32
  | 80 => 0xB5B0E6EF#32
  | 81 => 0x35A19018#32
  | 82 => 0xB5942572#32
  | 83 => 0x3588594C#32
  | 84 => 0xB57BD8F1#32
  | 85 => 0x35695670#32
  | 86 => 0xB558D5BB#32
  | 87 => 0x354A0FF9#32
  | 88 => 0xB53CCA00#32
  | 89 => 0x3530D21D#32
  | 90 => 0xB525FE56#32
  | 91 => 0x351C2B08#32
  | 92 => 0xB51339CD#32
  | 93 => 0x350B1097#32
  | 94 => 0xB50398F7#32
  | 95 => 0x34F97F13#32
  | 96 => 0xB4ECE6F7#32
  | 97 => 0x34E14C49#32
  | 98 => 0xB4D69568#32
  | 99 => 0x34CCABDA#32
  | 100 => 0xB4C37BD6#32
  | 101 => 0x34BAF3E5#32
  | 102 => 0xB4B30492#32
  | 103 => 0x34ABA023#32
  | 104 => 0xB4A4BA5F#32
  | 105 => 0x349E485F#32
  | 106 => 0xB4984061#32
  | 107 => 0x349299A5#32
  | 108 => 0xB48D4C4D#32
  | 109 => 0x34885142#32
  | 110 => 0xB483A221#32
  | 111 => 0x347E723F#32
  | 112 => 0xB4762200#32
  | 113 => 0x346E49FF#32
  | 114 => 0xB466E193#32
  | 115 => 0x345FE0DA#32
  | 116 => 0xB45940A1#32
  | 117 => 0x3452FA51#32
  | 118 => 0xB44D07E6#32
  | 119 => 0x344763DA#32
  | 120 => 0xB4420919#32
  | 121 => 0x343CF2FA#32
  | 122 => 0xB4381D32#32
  | 123 => 0x343383CC#32
  | 124 => 0xB42F2322#32
  | 125 => 0x342AF7D2#32
  | 126 => 0xB426FEBD#32
  | 127 => 0x342334FF#32
  | _ => 0#32

noncomputable abbrev lit0t0_378 (i : Nat) : BitVec 32 := match i % 128 with
  | 0 => 0x342334FF#32
  | 1 => 0xB41F97EA#32
  | 2 => 0x341C2500#32
  | 3 => 0xB418D9F0#32
  | 4 => 0x3415B495#32
  | 5 => 0xB412B2ED#32
  | 6 => 0x340FD31A#32
  | 7 => 0xB40D1360#32
  | 8 => 0x340A721F#32
  | 9 => 0xB407EDD1#32
  | 10 => 0x3405850C#32
  | 11 => 0xB403367C#32
  | 12 => 0x340100E3#32
  | 13 => 0xB3FDC62E#32
  | 14 => 0x33F9B800#32
  | 15 => 0xB3F5D532#32
  | 16 => 0x33F21BD6#32
  | 17 => 0xB3EE8A1F#32
  | 18 => 0x33EB1E5A#32
  | 19 => 0xB3E7D6EF#32
  | 20 => 0x33E4B25D#32
  | 21 => 0xB3E1AF3D#32
  | 22 => 0x33DECC38#32
  | 23 => 0xB3DC0810#32
  | 24 => 0x33D96196#32
  | 25 => 0xB3D6D7AE#32
  | 26 => 0x33D4694B#32
  | 27 => 0xB3D21572#32
  | 28 => 0x33CFDB34#32
  | 29 => 0xB3CDB9B1#32
  | 30 => 0x33CBB015#32
  | 31 => 0xB3C9BD97#32
  | 32 => 0x33C7E17D#32
  | 33 => 0xB3C61B15#32
  | 34 => 0x33C469B8#32
  | 35 => 0xB3C2CCC7#32
  | 36 => 0x33C143B0#32
  | 37 => 0xB3BFCDE6#32
  | 38 => 0x33BE6AE7#32
  | 39 => 0xB3BD1A36#32
  | 40 => 0x33BBDB61#32
  | 41 => 0xB3BAADFB#32
  | 42 => 0x33B9919E#32
  | 43 => 0xB3B885EC#32
  | 44 => 0x33B78A8A#32
  | 45 => 0xB3B69F28#32
  | 46 => 0x33B5C377#32
  | 47 => 0xB3B4F732#32
  | 48 => 0x33B43A15#32
  | 49 => 0xB3B38BE5#32
  | 50 => 0x33B2EC6A#32
  | 51 => 0xB3B25B72#32
  | 52 => 0x33B1D8CF#32
  | 53 => 0xB3B16459#32
  | 54 => 0x33B0FDEA#32
  | 55 => 0xB3B0A563#32
  | 56 => 0x33B05AA9#32
  | 57 => 0xB3B01DA5#32
  | 58 => 0x33AFEE43#32
  | 59 => 0xB3AFCC75#32
  | 60 => 0x33AFB831#32
  | 61 => 0xB3AFB170#32
  | 62 => 0x33AFB831#32
  | 63 => 0xB3AFCC75#32
  | 64 => 0x33AFEE43#32
  | 65 => 0xB3B01DA5#32
  | 66 => 0x33B05AA9#32
  | 67 => 0xB3B0A563#32
  | 68 => 0x33B0FDEA#32
  | 69 => 0xB3B16459#32
  | 70 => 0x33B1D8CF#32
  | 71 => 0xB3B25B72#32
  | 72 => 0x33B2EC6A#32
  | 73 => 0xB3B38BE5#32
  | 74 => 0x33B43A15#32
  | 75 => 0xB3B4F732#32
  | 76 => 0x33B5C377#32
  | 77 => 0xB3B69F28#32
  | 78 => 0x33B78A8A#32
  | 79 => 0xB3B885EC#32
  | 80 => 0x33B9919E#32
  | 81 => 0xB3BAADFB#32
  | 82 => 0x33BBDB61#32
  | 83 => 0xB3BD1A36#32
  | 84 => 0x33BE6AE7#32
  | 85 => 0xB3BFCDE6#32
  | 86 => 0x33C143B0#32
  | 87 => 0xB3C2CCC7#32
  | 88 => 0x33C469B8#32
  | 89 => 0xB3C61B15#32
  | 90 => 0x33C7E17D#32
  | 91 => 0xB3C9BD97#32
  | 92 => 0x33CBB015#32
  | 93 => 0xB3CDB9B1#32
  | 94 => 0x33CFDB34#32
  | 95 => 0xB3D21572#32
  | 96 => 0x33D4694B#32
  | 97 => 0xB3D6D7AE#32
  | 98 => 0x33D96196#32
  | 99 => 0xB3DC0810#32
  | 100 => 0x33DECC38#32
  | 101 => 0xB3E1AF3D#32
  | 102 => 0x33E4B25D#32
  | 103 => 0xB3E7D6EF#32
  | 104 => 0x33EB1E5A#32
  | 105 => 0xB3EE8A1F#32
  | 106 => 0x33F21BD6#32
  | 107 => 0xB3F5D532#32
  | 108 => 0x33F9B800#32
  | 109 => 0xB3FDC62E#32
  | 110 => 0x340100E3#32
  | 111 => 0xB403367C#32
  | 112 => 0x3405850C#32
  | 113 => 0xB407EDD1#32
  | 114 => 0x340A721F#32
  | 115 => 0xB40D1360#32
  | 116 => 0x340FD31A#32
  | 117 => 0xB412B2ED#32
  | 118 => 0x3415B495#32
  | 119 => 0xB418D9F0#32
  | 120 => 0x341C2500#32
  | 121 => 0xB41F97EA#32
  | 122 => 0x342334FF#32
  | 123 => 0xB426FEBD#32
  | 124 => 0x342AF7D2#32
  | 125 => 0xB42F2322#32
  | 126 => 0x343383CC#32
  | 127 => 0xB4381D32#32
  | _ => 0#32

noncomputable abbrev lit0t0_379 (i : Nat) : BitVec 32 := match i % 128 with
  | 0 => 0x343CF2FA#32
  | 1 => 0xB4420919#32
  | 2 => 0x344763DA#32
  | 3 => 0xB44D07E6#32
  | 4 => 0x3452FA51#32
  | 5 => 0xB45940A1#32
  | 6 => 0x345FE0DA#32
  | 7 => 0xB466E193#32
  | 8 => 0x346E49FF#32
  | 9 => 0xB4762200#32
  | 10 => 0x347E723F#32
  | 11 => 0xB483A221#32
  | 12 => 0x34885142#32
  | 13 => 0xB48D4C4D#32
  | 14 => 0x349299A5#32
  | 15 => 0xB4984061#32
  | 16 => 0x349E485F#32
  | 17 => 0xB4A4BA5F#32
  | 18 => 0x34ABA023#32
  | 19 => 0xB4B30492#32
  | 20 => 0x34BAF3E5#32
  | 21 => 0xB4C37BD6#32
  | 22 => 0x34CCABDA#32
  | 23 => 0xB4D69568#32
  | 24 => 0x34E14C49#32
  | 25 => 0xB4ECE6F7#32
  | 26 => 0x34F97F13#32
  | 27 => 0xB50398F7#32
  | 28 => 0x350B1097#32
  | 29 => 0xB51339CD#32
  | 30 => 0x351C2B08#32
  | 31 => 0xB525FE56#32
  | 32 => 0x3530D21D#32
  | 33 => 0xB53CCA00#32
  | 34 => 0x354A0FF9#32
  | 35 => 0xB558D5BB#32
  | 36 => 0x35695670#32
  | 37 => 0xB57BD8F1#32
  | 38 => 0x3588594C#32
  | 39 => 0xB5942572#32
  | 40 => 0x35A19018#32
  | 41 => 0xB5B0E6EF#32
  | 42 => 0x35C28A3B#32
  | 43 => 0xB5D6F23A#32
  | 44 => 0x35EEB658#32
  | 45 => 0xB6054B76#32
  | 46 => 0x3615C529#32
  | 47 => 0xB6296767#32
  | 48 => 0x3641014B#32
  | 49 => 0xB65DA20C#32
  | 50 => 0x368056F2#32
  | 51 => 0xB695FBC4#32
  | 52 => 0x36B0ED61#32
  | 53 => 0xB6D29E9B#32
  | 54 => 0x36FFBDB2#32
  | 55 => 0xB692EE32#32
  | 56 => 0x391EBB1A#32
  | 57 => 0x3B12D0DF#32
  | 58 => 0x3CA0086D#32
  | 59 => 0x3DBAD58B#32
  | 60 => 0x3E6BB748#32
  | 61 => 0x3EA069FE#32
  | 62 => 0x3E6BB748#32
  | 63 => 0x3DBAD58B#32
  | 64 => 0x3CA0086D#32
  | 65 => 0x3B12D0DF#32
  | 66 => 0x391EBB1A#32
  | 67 => 0xB692EE32#32
  | 68 => 0x36FFBDB2#32
  | 69 => 0xB6D29E9B#32
  | 70 => 0x36B0ED61#32
  | 71 => 0xB695FBC4#32
  | 72 => 0x368056F2#32
  | 73 => 0xB65DA20C#32
  | 74 => 0x3641014B#32
  | 75 => 0xB6296767#32
  | 76 => 0x3615C529#32
  | 77 => 0xB6054B76#32
  | 78 => 0x35EEB658#32
  | 79 => 0xB5D6F23A#32
  | 80 => 0x35C28A3B#32
  | 81 => 0xB5B0E6EF#32
  | 82 => 0x35A19018#32
  | 83 => 0xB5942572#32
  | 84 => 0x3588594C#32
  | 85 => 0xB57BD8F1#32
  | 86 => 0x35695670#32
  | 87 => 0xB558D5BB#32
  | 88 => 0x354A0FF9#32
  | 89 => 0xB53CCA00#32
  | 90 => 0x3530D21D#32
  | 91 => 0xB525FE56#32
  | 92 => 0x351C2B08#32
  | 93 => 0xB51339CD#32
  | 94 => 0x350B1097#32
  | 95 => 0xB50398F7#32
  | 96 => 0x34F97F13#32
  | 97 => 0xB4ECE6F7#32
  | 98 => 0x34E14C49#32
  | 99 => 0xB4D69568#32
  | 100 => 0x34CCABDA#32
  | 101 => 0xB4C37BD6#32
  | 102 => 0x34BAF3E5#32
  | 103 => 0xB4B30492#32
  | 104 => 0x34ABA023#32
  | 105 => 0xB4A4BA5F#32
  | 106 => 0x349E485F#32
  | 107 => 0xB4984061#32
  | 108 => 0x349299A5#32
  | 109 => 0xB48D4C4D#32
  | 110 => 0x34885142#32
  | 111 => 0xB483A221#32
  | 112 => 0x347E723F#32
  | 113 => 0xB4762200#32
  | 114 => 0x346E49FF#32
  | 115 => 0xB466E193#32
  | 116 => 0x345FE0DA#32
  | 117 => 0xB45940A1#32
  | 118 => 0x3452FA51#32
  | 119 => 0xB44D07E6#32
  | 120 => 0x344763DA#32
  | 121 => 0xB4420919#32
  | 122 => 0x343CF2FA#32
  | 123 => 0xB4381D32#32
  | 124 => 0x343383CC#32
  | 125 => 0xB42F2322#32
  | 126 => 0x342AF7D2#32
  | 127 => 0xB426FEBD#32
  | _ => 0#32

noncomputable abbrev lit0t0_380 (i : Nat) : BitVec 32 := match i % 128 with
  | 0 => 0xB426FEBD#32
  | 1 => 0x342334FF#32
  | 2 => 0xB41F97EA#32
  | 3 => 0x341C2500#32
  | 4 => 0xB418D9F0#32
  | 5 => 0x3415B495#32
  | 6 => 0xB412B2ED#32
  | 7 => 0x340FD31A#32
  | 8 => 0xB40D1360#32
  | 9 => 0x340A721F#32
  | 10 => 0xB407EDD1#32
  | 11 => 0x3405850C#32
  | 12 => 0xB403367C#32
  | 13 => 0x340100E3#32
  | 14 => 0xB3FDC62E#32
  | 15 => 0x33F9B800#32
  | 16 => 0xB3F5D532#32
  | 17 => 0x33F21BD6#32
  | 18 => 0xB3EE8A1F#32
  | 19 => 0x33EB1E5A#32
  | 20 => 0xB3E7D6EF#32
  | 21 => 0x33E4B25D#32
  | 22 => 0xB3E1AF3D#32
  | 23 => 0x33DECC38#32
  | 24 => 0xB3DC0810#32
  | 25 => 0x33D96196#32
  | 26 => 0xB3D6D7AE#32
  | 27 => 0x33D4694B#32
  | 28 => 0xB3D21572#32
  | 29 => 0x33CFDB34#32
  | 30 => 0xB3CDB9B1#32
  | 31 => 0x33CBB015#32
  | 32 => 0xB3C9BD97#32
  | 33 => 0x33C7E17D#32
  | 34 => 0xB3C61B15#32
  | 35 => 0x33C469B8#32
  | 36 => 0xB3C2CCC7#32
  | 37 => 0x33C143B0#32
  | 38 => 0xB3BFCDE6#32
  | 39 => 0x33BE6AE7#32
  | 40 => 0xB3BD1A36#32
  | 41 => 0x33BBDB61#32
  | 42 => 0xB3BAADFB#32
  | 43 => 0x33B9919E#32
  | 44 => 0xB3B885EC#32
  | 45 => 0x33B78A8A#32
  | 46 => 0xB3B69F28#32
  | 47 => 0x33B5C377#32
  | 48 => 0xB3B4F732#32
  | 49 => 0x33B43A15#32
  | 50 => 0xB3B38BE5#32
  | 51 => 0x33B2EC6A#32
  | 52 => 0xB3B25B72#32
  | 53 => 0x33B1D8CF#32
  | 54 => 0xB3B16459#32
  | 55 => 0x33B0FDEA#32
  | 56 => 0xB3B0A563#32
  | 57 => 0x33B05AA9#32
  | 58 => 0xB3B01DA5#32
  | 59 => 0x33AFEE43#32
  | 60 => 0xB3AFCC75#32
  | 61 => 0x33AFB831#32
  | 62 => 0xB3AFB170#32
  | 63 => 0x33AFB831#32
  | 64 => 0xB3AFCC75#32
  | 65 => 0x33AFEE43#32
  | 66 => 0xB3B01DA5#32
  | 67 => 0x33B05AA9#32
  | 68 => 0xB3B0A563#32
  | 69 => 0x33B0FDEA#32
  | 70 => 0xB3B16459#32
  | 71 => 0x33B1D8CF#32
  | 72 => 0xB3B25B72#32
  | 73 => 0x33B2EC6A#32
  | 74 => 0xB3B38BE5#32
  | 75 => 0x33B43A15#32
  | 76 => 0xB3B4F732#32
  | 77 => 0x33B5C377#32
  | 78 => 0xB3B69F28#32
  | 79 => 0x33B78A8A#32
  | 80 => 0xB3B885EC#32
  | 81 => 0x33B9919E#32
  | 82 => 0xB3BAADFB#32
  | 83 => 0x33BBDB61#32
  | 84 => 0xB3BD1A36#32
  | 85 => 0x33BE6AE7#32
  | 86 => 0xB3BFCDE6#32
  | 87 => 0x33C143B0#32
  | 88 => 0xB3C2CCC7#32
  | 89 => 0x33C469B8#32
  | 90 => 0xB3C61B15#32
  | 91 => 0x33C7E17D#32
  | 92 => 0xB3C9BD97#32
  | 93 => 0x33CBB015#32
  | 94 => 0xB3CDB9B1#32
  | 95 => 0x33CFDB34#32
  | 96 => 0xB3D21572#32
  | 97 => 0x33D4694B#32
  | 98 => 0xB3D6D7AE#32
  | 99 => 0x33D96196#32
  | 100 => 0xB3DC0810#32
  | 101 => 0x33DECC38#32
  | 102 => 0xB3E1AF3D#32
  | 103 => 0x33E4B25D#32
  | 104 => 0xB3E7D6EF#32
  | 105 => 0x33EB1E5A#32
  | 106 => 0xB3EE8A1F#32
  | 107 => 0x33F21BD6#32
  | 108 => 0xB3F5D532#32
  | 109 => 0x33F9B800#32
  | 110 => 0xB3FDC62E#32
  | 111 => 0x340100E3#32
  | 112 => 0xB403367C#32
  | 113 => 0x3405850C#32
  | 114 => 0xB407EDD1#32
  | 115 => 0x340A721F#32
  | 116 => 0xB40D1360#32
  | 117 => 0x340FD31A#32
  | 118 => 0xB412B2ED#32
  | 119 => 0x3415B495#32
  | 120 => 0xB418D9F0#32
  | 121 => 0x341C2500#32
  | 122 => 0xB41F97EA#32
  | 123 => 0x342334FF#32
  | 124 => 0xB426FEBD#32
  | 125 => 0x342AF7D2#32
  | 126 => 0xB42F2322#32
  | 127 => 0x343383CC#32
  | _ => 0#32

noncomputable abbrev lit0t0_381 (i : Nat) : BitVec 32 := match i % 128 with
  | 0 => 0xB4381D32#32
  | 1 => 0x343CF2FA#32
  | 2 => 0xB4420919#32
  | 3 => 0x344763DA#32
  | 4 => 0xB44D07E6#32
  | 5 => 0x3452FA51#32
  | 6 => 0xB45940A1#32
  | 7 => 0x345FE0DA#32
  | 8 => 0xB466E193#32
  | 9 => 0x346E49FF#32
  | 10 => 0xB4762200#32
  | 11 => 0x347E723F#32
  | 12 => 0xB483A221#32
  | 13 => 0x34885142#32
  | 14 => 0xB48D4C4D#32
  | 15 => 0x349299A5#32
  | 16 => 0xB4984061#32
  | 17 => 0x349E485F#32
  | 18 => 0xB4A4BA5F#32
  | 19 => 0x34ABA023#32
  | 20 => 0xB4B30492#32
  | 21 => 0x34BAF3E5#32
  | 22 => 0xB4C37BD6#32
  | 23 => 0x34CCABDA#32
  | 24 => 0xB4D69568#32
  | 25 => 0x34E14C49#32
  | 26 => 0xB4ECE6F7#32
  | 27 => 0x34F97F13#32
  | 28 => 0xB50398F7#32
  | 29 => 0x350B1097#32
  | 30 => 0xB51339CD#32
  | 31 => 0x351C2B08#32
  | 32 => 0xB525FE56#32
  | 33 => 0x3530D21D#32
  | 34 => 0xB53CCA00#32
  | 35 => 0x354A0FF9#32
  | 36 => 0xB558D5BB#32
  | 37 => 0x35695670#32
  | 38 => 0xB57BD8F1#32
  | 39 => 0x3588594C#32
  | 40 => 0xB5942572#32
  | 41 => 0x35A19018#32
  | 42 => 0xB5B0E6EF#32
  | 43 => 0x35C28A3B#32
  | 44 => 0xB5D6F23A#32
  | 45 => 0x35EEB658#32
  | 46 => 0xB6054B76#32
  | 47 => 0x3615C529#32
  | 48 => 0xB6296767#32
  | 49 => 0x3641014B#32
  | 50 => 0xB65DA20C#32
  | 51 => 0x368056F2#32
  | 52 => 0xB695FBC4#32
  | 53 => 0x36B0ED61#32
  | 54 => 0xB6D29E9B#32
  | 55 => 0x36FFBDB2#32
  | 56 => 0xB692EE32#32
  | 57 => 0x391EBB1A#32
  | 58 => 0x3B12D0DF#32
  | 59 => 0x3CA0086D#32
  | 60 => 0x3DBAD58B#32
  | 61 => 0x3E6BB748#32
  | 62 => 0x3EA069FE#32
  | 63 => 0x3E6BB748#32
  | 64 => 0x3DBAD58B#32
  | 65 => 0x3CA0086D#32
  | 66 => 0x3B12D0DF#32
  | 67 => 0x391EBB1A#32
  | 68 => 0xB692EE32#32
  | 69 => 0x36FFBDB2#32
  | 70 => 0xB6D29E9B#32
  | 71 => 0x36B0ED61#32
  | 72 => 0xB695FBC4#32
  | 73 => 0x368056F2#32
  | 74 => 0xB65DA20C#32
  | 75 => 0x3641014B#32
  | 76 => 0xB6296767#32
  | 77 => 0x3615C529#32
  | 78 => 0xB6054B76#32
  | 79 => 0x35EEB658#32
  | 80 => 0xB5D6F23A#32
  | 81 => 0x35C28A3B#32
  | 82 => 0xB5B0E6EF#32
  | 83 => 0x35A19018#32
  | 84 => 0xB5942572#32
  | 85 => 0x3588594C#32
  | 86 => 0xB57BD8F1#32
  | 87 => 0x35695670#32
  | 88 => 0xB558D5BB#32
  | 89 => 0x354A0FF9#32
  | 90 => 0xB53CCA00#32
  | 91 => 0x3530D21D#32
  | 92 => 0xB525FE56#32
  | 93 => 0x351C2B08#32
  | 94 => 0xB51339CD#32
  | 95 => 0x350B1097#32
  | 96 => 0xB50398F7#32
  | 97 => 0x34F97F13#32
  | 98 => 0xB4ECE6F7#32
  | 99 => 0x34E14C49#32
  | 100 => 0xB4D69568#32
  | 101 => 0x34CCABDA#32
  | 102 => 0xB4C37BD6#32
  | 103 => 0x34BAF3E5#32
  | 104 => 0xB4B30492#32
  | 105 => 0x34ABA023#32
  | 106 => 0xB4A4BA5F#32
  | 107 => 0x349E485F#32
  | 108 => 0xB4984061#32
  | 109 => 0x349299A5#32
  | 110 => 0xB48D4C4D#32
  | 111 => 0x34885143#32
  | 112 => 0xB483A221#32
  | 113 => 0x347E723F#32
  | 114 => 0xB4762200#32
  | 115 => 0x346E49FF#32
  | 116 => 0xB466E193#32
  | 117 => 0x345FE0DA#32
  | 118 => 0xB45940A1#32
  | 119 => 0x3452FA51#32
  | 120 => 0xB44D07E6#32
  | 121 => 0x344763DA#32
  | 122 => 0xB4420919#32
  | 123 => 0x343CF2FA#32
  | 124 => 0xB4381D32#32
  | 125 => 0x343383CC#32
  | 126 => 0xB42F2322#32
  | 127 => 0x342AF7D2#32
  | _ => 0#32

noncomputable abbrev lit0t0_382 (i : Nat) : BitVec 32 := match i % 128 with
  | 0 => 0x342AF7D2#32
  | 1 => 0xB426FEBD#32
  | 2 => 0x342334FF#32
  | 3 => 0xB41F97EA#32
  | 4 => 0x341C2500#32
  | 5 => 0xB418D9F0#32
  | 6 => 0x3415B495#32
  | 7 => 0xB412B2ED#32
  | 8 => 0x340FD31A#32
  | 9 => 0xB40D1360#32
  | 10 => 0x340A721F#32
  | 11 => 0xB407EDD1#32
  | 12 => 0x3405850C#32
  | 13 => 0xB403367C#32
  | 14 => 0x340100E3#32
  | 15 => 0xB3FDC62E#32
  | 16 => 0x33F9B800#32
  | 17 => 0xB3F5D532#32
  | 18 => 0x33F21BD6#32
  | 19 => 0xB3EE8A1F#32
  | 20 => 0x33EB1E5A#32
  | 21 => 0xB3E7D6EF#32
  | 22 => 0x33E4B25D#32
  | 23 => 0xB3E1AF3D#32
  | 24 => 0x33DECC38#32
  | 25 => 0xB3DC0810#32
  | 26 => 0x33D96196#32
  | 27 => 0xB3D6D7AE#32
  | 28 => 0x33D4694B#32
  | 29 => 0xB3D21572#32
  | 30 => 0x33CFDB34#32
  | 31 => 0xB3CDB9B1#32
  | 32 => 0x33CBB015#32
  | 33 => 0xB3C9BD97#32
  | 34 => 0x33C7E17D#32
  | 35 => 0xB3C61B15#32
  | 36 => 0x33C469B8#32
  | 37 => 0xB3C2CCC7#32
  | 38 => 0x33C143B0#32
  | 39 => 0xB3BFCDE6#32
  | 40 => 0x33BE6AE7#32
  | 41 => 0xB3BD1A36#32
  | 42 => 0x33BBDB61#32
  | 43 => 0xB3BAADFB#32
  | 44 => 0x33B9919E#32
  | 45 => 0xB3B885EC#32
  | 46 => 0x33B78A8A#32
  | 47 => 0xB3B69F28#32
  | 48 => 0x33B5C377#32
  | 49 => 0xB3B4F732#32
  | 50 => 0x33B43A15#32
  | 51 => 0xB3B38BE5#32
  | 52 => 0x33B2EC6A#32
  | 53 => 0xB3B25B72#32
  | 54 => 0x33B1D8CF#32
  | 55 => 0xB3B16459#32
  | 56 => 0x33B0FDEA#32
  | 57 => 0xB3B0A563#32
  | 58 => 0x33B05AA9#32
  | 59 => 0xB3B01DA5#32
  | 60 => 0x33AFEE43#32
  | 61 => 0xB3AFCC75#32
  | 62 => 0x33AFB831#32
  | 63 => 0xB3AFB170#32
  | 64 => 0x33AFB831#32
  | 65 => 0xB3AFCC75#32
  | 66 => 0x33AFEE43#32
  | 67 => 0xB3B01DA5#32
  | 68 => 0x33B05AA9#32
  | 69 => 0xB3B0A563#32
  | 70 => 0x33B0FDEA#32
  | 71 => 0xB3B16459#32
  | 72 => 0x33B1D8CF#32
  | 73 => 0xB3B25B72#32
  | 74 => 0x33B2EC6A#32
  | 75 => 0xB3B38BE5#32
  | 76 => 0x33B43A15#32
  | 77 => 0xB3B4F732#32
  | 78 => 0x33B5C377#32
  | 79 => 0xB3B69F28#32
  | 80 => 0x33B78A8A#32
  | 81 => 0xB3B885EC#32
  | 82 => 0x33B9919E#32
  | 83 => 0xB3BAADFB#32
  | 84 => 0x33BBDB61#32
  | 85 => 0xB3BD1A36#32
  | 86 => 0x33BE6AE7#32
  | 87 => 0xB3BFCDE6#32
  | 88 => 0x33C143B0#32
  | 89 => 0xB3C2CCC7#32
  | 90 => 0x33C469B8#32
  | 91 => 0xB3C61B15#32
  | 92 => 0x33C7E17D#32
  | 93 => 0xB3C9BD97#32
  | 94 => 0x33CBB015#32
  | 95 => 0xB3CDB9B1#32
  | 96 => 0x33CFDB34#32
  | 97 => 0xB3D21572#32
  | 98 => 0x33D4694B#32
  | 99 => 0xB3D6D7AE#32
  | 100 => 0x33D96196#32
  | 101 => 0xB3DC0810#32
  | 102 => 0x33DECC38#32
  | 103 => 0xB3E1AF3D#32
  | 104 => 0x33E4B25D#32
  | 105 => 0xB3E7D6EF#32
  | 106 => 0x33EB1E5A#32
  | 107 => 0xB3EE8A1F#32
  | 108 => 0x33F21BD6#32
  | 109 => 0xB3F5D532#32
  | 110 => 0x33F9B800#32
  | 111 => 0xB3FDC62E#32
  | 112 => 0x340100E3#32
  | 113 => 0xB403367C#32
  | 114 => 0x3405850C#32
  | 115 => 0xB407EDD1#32
  | 116 => 0x340A721F#32
  | 117 => 0xB40D1360#32
  | 118 => 0x340FD31A#32
  | 119 => 0xB412B2ED#32
  | 120 => 0x3415B495#32
  | 121 => 0xB418D9F0#32
  | 122 => 0x341C2500#32
  | 123 => 0xB41F97EA#32
  | 124 => 0x342334FF#32
  | 125 => 0xB426FEBD#32
  | 126 => 0x342AF7D2#32
  | 127 => 0xB42F2322#32
  | _ => 0#32

noncomputable abbrev lit0t0_383 (i : Nat) : BitVec 32 := match i % 128 with
  | 0 => 0x343383CC#32
  | 1 => 0xB4381D32#32
  | 2 => 0x343CF2FA#32
  | 3 => 0xB4420919#32
  | 4 => 0x344763DA#32
  | 5 => 0xB44D07E6#32
  | 6 => 0x3452FA51#32
  | 7 => 0xB45940A1#32
  | 8 => 0x345FE0DA#32
  | 9 => 0xB466E193#32
  | 10 => 0x346E49FF#32
  | 11 => 0xB4762200#32
  | 12 => 0x347E723F#32
  | 13 => 0xB483A221#32
  | 14 => 0x34885143#32
  | 15 => 0xB48D4C4D#32
  | 16 => 0x349299A5#32
  | 17 => 0xB4984061#32
  | 18 => 0x349E485F#32
  | 19 => 0xB4A4BA5F#32
  | 20 => 0x34ABA023#32
  | 21 => 0xB4B30492#32
  | 22 => 0x34BAF3E5#32
  | 23 => 0xB4C37BD6#32
  | 24 => 0x34CCABDA#32
  | 25 => 0xB4D69568#32
  | 26 => 0x34E14C49#32
  | 27 => 0xB4ECE6F7#32
  | 28 => 0x34F97F13#32
  | 29 => 0xB50398F7#32
  | 30 => 0x350B1097#32
  | 31 => 0xB51339CD#32
  | 32 => 0x351C2B08#32
  | 33 => 0xB525FE56#32
  | 34 => 0x3530D21D#32
  | 35 => 0xB53CCA00#32
  | 36 => 0x354A0FF9#32
  | 37 => 0xB558D5BB#32
  | 38 => 0x35695670#32
  | 39 => 0xB57BD8F1#32
  | 40 => 0x3588594C#32
  | 41 => 0xB5942572#32
  | 42 => 0x35A19018#32
  | 43 => 0xB5B0E6EF#32
  | 44 => 0x35C28A3B#32
  | 45 => 0xB5D6F23A#32
  | 46 => 0x35EEB658#32
  | 47 => 0xB6054B76#32
  | 48 => 0x3615C529#32
  | 49 => 0xB6296767#32
  | 50 => 0x3641014B#32
  | 51 => 0xB65DA20C#32
  | 52 => 0x368056F2#32
  | 53 => 0xB695FBC4#32
  | 54 => 0x36B0ED61#32
  | 55 => 0xB6D29E9B#32
  | 56 => 0x36FFBDB2#32
  | 57 => 0xB692EE32#32
  | 58 => 0x391EBB1A#32
  | 59 => 0x3B12D0DF#32
  | 60 => 0x3CA0086D#32
  | 61 => 0x3DBAD58B#32
  | 62 => 0x3E6BB748#32
  | 63 => 0x3EA069FE#32
  | 64 => 0x3E6BB748#32
  | 65 => 0x3DBAD58B#32
  | 66 => 0x3CA0086D#32
  | 67 => 0x3B12D0DF#32
  | 68 => 0x391EBB1A#32
  | 69 => 0xB692EE32#32
  | 70 => 0x36FFBDB2#32
  | 71 => 0xB6D29E9B#32
  | 72 => 0x36B0ED61#32
  | 73 => 0xB695FBC4#32
  | 74 => 0x368056F2#32
  | 75 => 0xB65DA20C#32
  | 76 => 0x3641014B#32
  | 77 => 0xB6296767#32
  | 78 => 0x3615C529#32
  | 79 => 0xB6054B76#32
  | 80 => 0x35EEB658#32
  | 81 => 0xB5D6F23A#32
  | 82 => 0x35C28A3B#32
  | 83 => 0xB5B0E6EF#32
  | 84 => 0x35A19018#32
  | 85 => 0xB5942572#32
  | 86 => 0x3588594C#32
  | 87 => 0xB57BD8F1#32
  | 88 => 0x35695670#32
  | 89 => 0xB558D5BB#32
  | 90 => 0x354A0FF9#32
  | 91 => 0xB53CCA00#32
  | 92 => 0x3530D21D#32
  | 93 => 0xB525FE56#32
  | 94 => 0x351C2B08#32
  | 95 => 0xB51339CD#32
  | 96 => 0x350B1097#32
  | 97 => 0xB50398F7#32
  | 98 => 0x34F97F13#32
  | 99 => 0xB4ECE6F7#32
  | 100 => 0x34E14C49#32
  | 101 => 0xB4D69568#32
  | 102 => 0x34CCABDA#32
  | 103 => 0xB4C37BD6#32
  | 104 => 0x34BAF3E5#32
  | 105 => 0xB4B30492#32
  | 106 => 0x34ABA023#32
  | 107 => 0xB4A4BA5F#32
  | 108 => 0x349E485F#32
  | 109 => 0xB4984061#32
  | 110 => 0x349299A5#32
  | 111 => 0xB48D4C4D#32
  | 112 => 0x34885143#32
  | 113 => 0xB483A221#32
  | 114 => 0x347E723F#32
  | 115 => 0xB4762200#32
  | 116 => 0x346E49FF#32
  | 117 => 0xB466E193#32
  | 118 => 0x345FE0DA#32
  | 119 => 0xB45940A1#32
  | 120 => 0x3452FA51#32
  | 121 => 0xB44D07E6#32
  | 122 => 0x344763DA#32
  | 123 => 0xB4420919#32
  | 124 => 0x343CF2FA#32
  | 125 => 0xB4381D32#32
  | 126 => 0x343383CC#32
  | 127 => 0xB42F2322#32
  | _ => 0#32

noncomputable abbrev lit0t0_384 (i : Nat) : BitVec 32 := match i % 128 with
  | 0 => 0xB42F2322#32
  | 1 => 0x342AF7D2#32
  | 2 => 0xB426FEBD#32
  | 3 => 0x342334FF#32
  | 4 => 0xB41F97EA#32
  | 5 => 0x341C2500#32
  | 6 => 0xB418D9F0#32
  | 7 => 0x3415B495#32
  | 8 => 0xB412B2ED#32
  | 9 => 0x340FD31A#32
  | 10 => 0xB40D1360#32
  | 11 => 0x340A721F#32
  | 12 => 0xB407EDD1#32
  | 13 => 0x3405850C#32
  | 14 => 0xB403367C#32
  | 15 => 0x340100E3#32
  | 16 => 0xB3FDC62E#32
  | 17 => 0x33F9B800#32
  | 18 => 0xB3F5D532#32
  | 19 => 0x33F21BD6#32
  | 20 => 0xB3EE8A1F#32
  | 21 => 0x33EB1E5A#32
  | 22 => 0xB3E7D6EF#32
  | 23 => 0x33E4B25D#32
  | 24 => 0xB3E1AF3D#32
  | 25 => 0x33DECC38#32
  | 26 => 0xB3DC0810#32
  | 27 => 0x33D96196#32
  | 28 => 0xB3D6D7AE#32
  | 29 => 0x33D4694B#32
  | 30 => 0xB3D21572#32
  | 31 => 0x33CFDB34#32
  | 32 => 0xB3CDB9B1#32
  | 33 => 0x33CBB015#32
  | 34 => 0xB3C9BD97#32
  | 35 => 0x33C7E17D#32
  | 36 => 0xB3C61B15#32
  | 37 => 0x33C469B8#32
  | 38 => 0xB3C2CCC7#32
  | 39 => 0x33C143B0#32
  | 40 => 0xB3BFCDE6#32
  | 41 => 0x33BE6AE7#32
  | 42 => 0xB3BD1A36#32
  | 43 => 0x33BBDB61#32
  | 44 => 0xB3BAADFB#32
  | 45 => 0x33B9919E#32
  | 46 => 0xB3B885EC#32
  | 47 => 0x33B78A8A#32
  | 48 => 0xB3B69F28#32
  | 49 => 0x33B5C377#32
  | 50 => 0xB3B4F732#32
  | 51 => 0x33B43A15#32
  | 52 => 0xB3B38BE5#32
  | 53 => 0x33B2EC6A#32
  | 54 => 0xB3B25B72#32
  | 55 => 0x33B1D8CF#32
  | 56 => 0xB3B16459#32
  | 57 => 0x33B0FDEA#32
  | 58 => 0xB3B0A563#32
  | 59 => 0x33B05AA9#32
  | 60 => 0xB3B01DA5#32
  | 61 => 0x33AFEE43#32
  | 62 => 0xB3AFCC75#32
  | 63 => 0x33AFB831#32
  | 64 => 0xB3AFB170#32
  | 65 => 0x33AFB831#32
  | 66 => 0xB3AFCC75#32
  | 67 => 0x33AFEE43#32
  | 68 => 0xB3B01DA5#32
  | 69 => 0x33B05AA9#32
  | 70 => 0xB3B0A563#32
  | 71 => 0x33B0FDEA#32
  | 72 => 0xB3B16459#32
  | 73 => 0x33B1D8CF#32
  | 74 => 0xB3B25B72#32
  | 75 => 0x33B2EC6A#32
  | 76 => 0xB3B38BE5#32
  | 77 => 0x33B43A15#32
  | 78 => 0xB3B4F732#32
  | 79 => 0x33B5C377#32
  | 80 => 0xB3B69F28#32
  | 81 => 0x33B78A8A#32
  | 82 => 0xB3B885EC#32
  | 83 => 0x33B9919E#32
  | 84 => 0xB3BAADFB#32
  | 85 => 0x33BBDB61#32
  | 86 => 0xB3BD1A36#32
  | 87 => 0x33BE6AE7#32
  | 88 => 0xB3BFCDE6#32
  | 89 => 0x33C143B0#32
  | 90 => 0xB3C2CCC7#32
  | 91 => 0x33C469B8#32
  | 92 => 0xB3C61B15#32
  | 93 => 0x33C7E17D#32
  | 94 => 0xB3C9BD97#32
  | 95 => 0x33CBB015#32
  | 96 => 0xB3CDB9B1#32
  | 97 => 0x33CFDB34#32
  | 98 => 0xB3D21572#32
  | 99 => 0x33D4694B#32
  | 100 => 0xB3D6D7AE#32
  | 101 => 0x33D96196#32
  | 102 => 0xB3DC0810#32
  | 103 => 0x33DECC38#32
  | 104 => 0xB3E1AF3D#32
  | 105 => 0x33E4B25D#32
  | 106 => 0xB3E7D6EF#32
  | 107 => 0x33EB1E5A#32
  | 108 => 0xB3EE8A1F#32
  | 109 => 0x33F21BD6#32
  | 110 => 0xB3F5D532#32
  | 111 => 0x33F9B800#32
  | 112 => 0xB3FDC62E#32
  | 113 => 0x340100E3#32
  | 114 => 0xB403367C#32
  | 115 => 0x3405850C#32
  | 116 => 0xB407EDD1#32
  | 117 => 0x340A721F#32
  | 118 => 0xB40D1360#32
  | 119 => 0x340FD31A#32
  | 120 => 0xB412B2ED#32
  | 121 => 0x3415B495#32
  | 122 => 0xB418D9F0#32
  | 123 => 0x341C2500#32
  | 124 => 0xB41F97EA#32
  | 125 => 0x342334FF#32
  | 126 => 0xB426FEBD#32
  | 127 => 0x342AF7D2#32
  | _ => 0#32

noncomputable abbrev lit0t0_385 (i : Nat) : BitVec 32 := match i % 128 with
  | 0 => 0xB42F2322#32
  | 1 => 0x343383CC#32
  | 2 => 0xB4381D32#32
  | 3 => 0x343CF2FA#32
  | 4 => 0xB4420919#32
  | 5 => 0x344763DA#32
  | 6 => 0xB44D07E6#32
  | 7 => 0x3452FA51#32
  | 8 => 0xB45940A1#32
  | 9 => 0x345FE0DA#32
  | 10 => 0xB466E193#32
  | 11 => 0x346E49FF#32
  | 12 => 0xB4762200#32
  | 13 => 0x347E723F#32
  | 14 => 0xB483A221#32
  | 15 => 0x34885143#32
  | 16 => 0xB48D4C4D#32
  | 17 => 0x349299A5#32
  | 18 => 0xB4984061#32
  | 19 => 0x349E485F#32
  | 20 => 0xB4A4BA5F#32
  | 21 => 0x34ABA023#32
  | 22 => 0xB4B30492#32
  | 23 => 0x34BAF3E5#32
  | 24 => 0xB4C37BD6#32
  | 25 => 0x34CCABDA#32
  | 26 => 0xB4D69568#32
  | 27 => 0x34E14C49#32
  | 28 => 0xB4ECE6F7#32
  | 29 => 0x34F97F13#32
  | 30 => 0xB50398F7#32
  | 31 => 0x350B1097#32
  | 32 => 0xB51339CD#32
  | 33 => 0x351C2B08#32
  | 34 => 0xB525FE56#32
  | 35 => 0x3530D21D#32
  | 36 => 0xB53CCA00#32
  | 37 => 0x354A0FF9#32
  | 38 => 0xB558D5BB#32
  | 39 => 0x35695670#32
  | 40 => 0xB57BD8F1#32
  | 41 => 0x3588594C#32
  | 42 => 0xB5942572#32
  | 43 => 0x35A19018#32
  | 44 => 0xB5B0E6EF#32
  | 45 => 0x35C28A3B#32
  | 46 => 0xB5D6F23A#32
  | 47 => 0x35EEB658#32
  | 48 => 0xB6054B76#32
  | 49 => 0x3615C529#32
  | 50 => 0xB6296767#32
  | 51 => 0x3641014B#32
  | 52 => 0xB65DA20C#32
  | 53 => 0x368056F2#32
  | 54 => 0xB695FBC4#32
  | 55 => 0x36B0ED61#32
  | 56 => 0xB6D29E9B#32
  | 57 => 0x36FFBDB2#32
  | 58 => 0xB692EE32#32
  | 59 => 0x391EBB1A#32
  | 60 => 0x3B12D0DF#32
  | 61 => 0x3CA0086D#32
  | 62 => 0x3DBAD58B#32
  | 63 => 0x3E6BB748#32
  | 64 => 0x3EA069FE#32
  | 65 => 0x3E6BB748#32
  | 66 => 0x3DBAD58B#32
  | 67 => 0x3CA0086D#32
  | 68 => 0x3B12D0DF#32
  | 69 => 0x391EBB1A#32
  | 70 => 0xB692EE32#32
  | 71 => 0x36FFBDB2#32
  | 72 => 0xB6D29E9B#32
  | 73 => 0x36B0ED61#32
  | 74 => 0xB695FBC4#32
  | 75 => 0x368056F2#32
  | 76 => 0xB65DA20C#32
  | 77 => 0x3641014B#32
  | 78 => 0xB6296767#32
  | 79 => 0x3615C529#32
  | 80 => 0xB6054B76#32
  | 81 => 0x35EEB658#32
  | 82 => 0xB5D6F23A#32
  | 83 => 0x35C28A3B#32
  | 84 => 0xB5B0E6EF#32
  | 85 => 0x35A19018#32
  | 86 => 0xB5942572#32
  | 87 => 0x3588594C#32
  | 88 => 0xB57BD8F1#32
  | 89 => 0x35695670#32
  | 90 => 0xB558D5BB#32
  | 91 => 0x354A0FF9#32
  | 92 => 0xB53CCA00#32
  | 93 => 0x3530D21D#32
  | 94 => 0xB525FE56#32
  | 95 => 0x351C2B08#32
  | 96 => 0xB51339CD#32
  | 97 => 0x350B1097#32
  | 98 => 0xB50398F7#32
  | 99 => 0x34F97F13#32
  | 100 => 0xB4ECE6F7#32
  | 101 => 0x34E14C49#32
  | 102 => 0xB4D69568#32
  | 103 => 0x34CCABDA#32
  | 104 => 0xB4C37BD6#32
  | 105 => 0x34BAF3E5#32
  | 106 => 0xB4B30492#32
  | 107 => 0x34ABA023#32
  | 108 => 0xB4A4BA5F#32
  | 109 => 0x349E485F#32
  | 110 => 0xB4984061#32
  | 111 => 0x349299A5#32
  | 112 => 0xB48D4C4D#32
  | 113 => 0x34885143#32
  | 114 => 0xB483A221#32
  | 115 => 0x347E723F#32
  | 116 => 0xB4762200#32
  | 117 => 0x346E49FF#32
  | 118 => 0xB466E193#32
  | 119 => 0x345FE0DA#32
  | 120 => 0xB45940A1#32
  | 121 => 0x3452FA51#32
  | 122 => 0xB44D07E6#32
  | 123 => 0x344763DA#32
  | 124 => 0xB4420919#32
  | 125 => 0x343CF2FA#32
  | 126 => 0xB4381D32#32
  | 127 => 0x343383CC#32
  | _ => 0#32

noncomputable abbrev lit0t0_386 (i : Nat) : BitVec 32 := match i % 128 with
  | 0 => 0x343383CC#32
  | 1 => 0xB42F2322#32
  | 2 => 0x342AF7D2#32
  | 3 => 0xB426FEBD#32
  | 4 => 0x342334FF#32
  | 5 => 0xB41F97EA#32
  | 6 => 0x341C2500#32
  | 7 => 0xB418D9F0#32
  | 8 => 0x3415B495#32
  | 9 => 0xB412B2ED#32
  | 10 => 0x340FD31A#32
  | 11 => 0xB40D1360#32
  | 12 => 0x340A721F#32
  | 13 => 0xB407EDD1#32
  | 14 => 0x3405850C#32
  | 15 => 0xB403367C#32
  | 16 => 0x340100E3#32
  | 17 => 0xB3FDC62E#32
  | 18 => 0x33F9B800#32
  | 19 => 0xB3F5D532#32
  | 20 => 0x33F21BD6#32
  | 21 => 0xB3EE8A1F#32
  | 22 => 0x33EB1E5A#32
  | 23 => 0xB3E7D6EF#32
  | 24 => 0x33E4B25D#32
  | 25 => 0xB3E1AF3D#32
  | 26 => 0x33DECC38#32
  | 27 => 0xB3DC0810#32
  | 28 => 0x33D96196#32
  | 29 => 0xB3D6D7AE#32
  | 30 => 0x33D4694B#32
  | 31 => 0xB3D21572#32
  | 32 => 0x33CFDB34#32
  | 33 => 0xB3CDB9B1#32
  | 34 => 0x33CBB015#32
  | 35 => 0xB3C9BD97#32
  | 36 => 0x33C7E17D#32
  | 37 => 0xB3C61B15#32
  | 38 => 0x33C469B8#32
  | 39 => 0xB3C2CCC7#32
  | 40 => 0x33C143B0#32
  | 41 => 0xB3BFCDE6#32
  | 42 => 0x33BE6AE7#32
  | 43 => 0xB3BD1A36#32
  | 44 => 0x33BBDB61#32
  | 45 => 0xB3BAADFB#32
  | 46 => 0x33B9919E#32
  | 47 => 0xB3B885EC#32
  | 48 => 0x33B78A8A#32
  | 49 => 0xB3B69F28#32
  | 50 => 0x33B5C377#32
  | 51 => 0xB3B4F732#32
  | 52 => 0x33B43A15#32
  | 53 => 0xB3B38BE5#32
  | 54 => 0x33B2EC6A#32
  | 55 => 0xB3B25B72#32
  | 56 => 0x33B1D8CF#32
  | 57 => 0xB3B16459#32
  | 58 => 0x33B0FDEA#32
  | 59 => 0xB3B0A563#32
  | 60 => 0x33B05AA9#32
  | 61 => 0xB3B01DA5#32
  | 62 => 0x33AFEE43#32
  | 63 => 0xB3AFCC75#32
  | 64 => 0x33AFB831#32
  | 65 => 0xB3AFB170#32
  | 66 => 0x33AFB831#32
  | 67 => 0xB3AFCC75#32
  | 68 => 0x33AFEE43#32
  | 69 => 0xB3B01DA5#32
  | 70 => 0x33B05AA9#32
  | 71 => 0xB3B0A563#32
  | 72 => 0x33B0FDEA#32
  | 73 => 0xB3B16459#32
  | 74 => 0x33B1D8CF#32
  | 75 => 0xB3B25B72#32
  | 76 => 0x33B2EC6A#32
  | 77 => 0xB3B38BE5#32
  | 78 => 0x33B43A15#32
  | 79 => 0xB3B4F732#32
  | 80 => 0x33B5C377#32
  | 81 => 0xB3B69F28#32
  | 82 => 0x33B78A8A#32
  | 83 => 0xB3B885EC#32
  | 84 => 0x33B9919E#32
  | 85 => 0xB3BAADFB#32
  | 86 => 0x33BBDB61#32
  | 87 => 0xB3BD1A36#32
  | 88 => 0x33BE6AE7#32
  | 89 => 0xB3BFCDE6#32
  | 90 => 0x33C143B0#32
  | 91 => 0xB3C2CCC7#32
  | 92 => 0x33C469B8#32
  | 93 => 0xB3C61B15#32
  | 94 => 0x33C7E17D#32
  | 95 => 0xB3C9BD97#32
  | 96 => 0x33CBB015#32
  | 97 => 0xB3CDB9B1#32
  | 98 => 0x33CFDB34#32
  | 99 => 0xB3D21572#32
  | 100 => 0x33D4694B#32
  | 101 => 0xB3D6D7AE#32
  | 102 => 0x33D96196#32
  | 103 => 0xB3DC0810#32
  | 104 => 0x33DECC38#32
  | 105 => 0xB3E1AF3D#32
  | 106 => 0x33E4B25D#32
  | 107 => 0xB3E7D6EF#32
  | 108 => 0x33EB1E5A#32
  | 109 => 0xB3EE8A1F#32
  | 110 => 0x33F21BD6#32
  | 111 => 0xB3F5D532#32
  | 112 => 0x33F9B800#32
  | 113 => 0xB3FDC62E#32
  | 114 => 0x340100E3#32
  | 115 => 0xB403367C#32
  | 116 => 0x3405850C#32
  | 117 => 0xB407EDD1#32
  | 118 => 0x340A721F#32
  | 119 => 0xB40D1360#32
  | 120 => 0x340FD31A#32
  | 121 => 0xB412B2ED#32
  | 122 => 0x3415B495#32
  | 123 => 0xB418D9F0#32
  | 124 => 0x341C2500#32
  | 125 => 0xB41F97EA#32
  | 126 => 0x342334FF#32
  | 127 => 0xB426FEBD#32
  | _ => 0#32

noncomputable abbrev lit0t0_387 (i : Nat) : BitVec 32 := match i % 128 with
  | 0 => 0x342AF7D2#32
  | 1 => 0xB42F2322#32
  | 2 => 0x343383CC#32
  | 3 => 0xB4381D32#32
  | 4 => 0x343CF2FA#32
  | 5 => 0xB4420919#32
  | 6 => 0x344763DA#32
  | 7 => 0xB44D07E6#32
  | 8 => 0x3452FA51#32
  | 9 => 0xB45940A1#32
  | 10 => 0x345FE0DA#32
  | 11 => 0xB466E193#32
  | 12 => 0x346E49FF#32
  | 13 => 0xB4762200#32
  | 14 => 0x347E723F#32
  | 15 => 0xB483A221#32
  | 16 => 0x34885143#32
  | 17 => 0xB48D4C4D#32
  | 18 => 0x349299A5#32
  | 19 => 0xB4984061#32
  | 20 => 0x349E485F#32
  | 21 => 0xB4A4BA5F#32
  | 22 => 0x34ABA023#32
  | 23 => 0xB4B30492#32
  | 24 => 0x34BAF3E5#32
  | 25 => 0xB4C37BD6#32
  | 26 => 0x34CCABDA#32
  | 27 => 0xB4D69568#32
  | 28 => 0x34E14C49#32
  | 29 => 0xB4ECE6F7#32
  | 30 => 0x34F97F13#32
  | 31 => 0xB50398F7#32
  | 32 => 0x350B1097#32
  | 33 => 0xB51339CD#32
  | 34 => 0x351C2B08#32
  | 35 => 0xB525FE56#32
  | 36 => 0x3530D21D#32
  | 37 => 0xB53CCA00#32
  | 38 => 0x354A0FF9#32
  | 39 => 0xB558D5BB#32
  | 40 => 0x35695670#32
  | 41 => 0xB57BD8F1#32
  | 42 => 0x3588594C#32
  | 43 => 0xB5942572#32
  | 44 => 0x35A19018#32
  | 45 => 0xB5B0E6EF#32
  | 46 => 0x35C28A3B#32
  | 47 => 0xB5D6F23A#32
  | 48 => 0x35EEB658#32
  | 49 => 0xB6054B76#32
  | 50 => 0x3615C529#32
  | 51 => 0xB6296767#32
  | 52 => 0x3641014B#32
  | 53 => 0xB65DA20C#32
  | 54 => 0x368056F2#32
  | 55 => 0xB695FBC4#32
  | 56 => 0x36B0ED61#32
  | 57 => 0xB6D29E9B#32
  | 58 => 0x36FFBDB2#32
  | 59 => 0xB692EE32#32
  | 60 => 0x391EBB1A#32
  | 61 => 0x3B12D0DF#32
  | 62 => 0x3CA0086D#32
  | 63 => 0x3DBAD58B#32
  | 64 => 0x3E6BB748#32
  | 65 => 0x3EA069FE#32
  | 66 => 0x3E6BB748#32
  | 67 => 0x3DBAD58B#32
  | 68 => 0x3CA0086D#32
  | 69 => 0x3B12D0DF#32
  | 70 => 0x391EBB1A#32
  | 71 => 0xB692EE32#32
  | 72 => 0x36FFBDB2#32
  | 73 => 0xB6D29E9B#32
  | 74 => 0x36B0ED61#32
  | 75 => 0xB695FBC4#32
  | 76 => 0x368056F2#32
  | 77 => 0xB65DA20C#32
  | 78 => 0x3641014B#32
  | 79 => 0xB6296767#32
  | 80 => 0x3615C529#32
  | 81 => 0xB6054B76#32
  | 82 => 0x35EEB658#32
  | 83 => 0xB5D6F23A#32
  | 84 => 0x35C28A3B#32
  | 85 => 0xB5B0E6EF#32
  | 86 => 0x35A19018#32
  | 87 => 0xB5942572#32
  | 88 => 0x3588594C#32
  | 89 => 0xB57BD8F1#32
  | 90 => 0x35695670#32
  | 91 => 0xB558D5BB#32
  | 92 => 0x354A0FF9#32
  | 93 => 0xB53CCA00#32
  | 94 => 0x3530D21D#32
  | 95 => 0xB525FE56#32
  | 96 => 0x351C2B08#32
  | 97 => 0xB51339CD#32
  | 98 => 0x350B1097#32
  | 99 => 0xB50398F7#32
  | 100 => 0x34F97F13#32
  | 101 => 0xB4ECE6F7#32
  | 102 => 0x34E14C49#32
  | 103 => 0xB4D69568#32
  | 104 => 0x34CCABDA#32
  | 105 => 0xB4C37BD6#32
  | 106 => 0x34BAF3E5#32
  | 107 => 0xB4B30492#32
  | 108 => 0x34ABA023#32
  | 109 => 0xB4A4BA5F#32
  | 110 => 0x349E485F#32
  | 111 => 0xB4984061#32
  | 112 => 0x349299A5#32
  | 113 => 0xB48D4C4D#32
  | 114 => 0x34885143#32
  | 115 => 0xB483A221#32
  | 116 => 0x347E723F#32
  | 117 => 0xB4762200#32
  | 118 => 0x346E49FF#32
  | 119 => 0xB466E193#32
  | 120 => 0x345FE0DA#32
  | 121 => 0xB45940A1#32
  | 122 => 0x3452FA51#32
  | 123 => 0xB44D07E6#32
  | 124 => 0x344763DA#32
  | 125 => 0xB4420919#32
  | 126 => 0x343CF2FA#32
  | 127 => 0xB4381D32#32
  | _ => 0#32

noncomputable abbrev lit0t0_388 (i : Nat) : BitVec 32 := match i % 128 with
  | 0 => 0xB4381D32#32
  | 1 => 0x343383CC#32
  | 2 => 0xB42F2322#32
  | 3 => 0x342AF7D2#32
  | 4 => 0xB426FEBD#32
  | 5 => 0x342334FF#32
  | 6 => 0xB41F97EA#32
  | 7 => 0x341C2500#32
  | 8 => 0xB418D9F0#32
  | 9 => 0x3415B495#32
  | 10 => 0xB412B2ED#32
  | 11 => 0x340FD31A#32
  | 12 => 0xB40D1360#32
  | 13 => 0x340A721F#32
  | 14 => 0xB407EDD1#32
  | 15 => 0x3405850C#32
  | 16 => 0xB403367C#32
  | 17 => 0x340100E3#32
  | 18 => 0xB3FDC62E#32
  | 19 => 0x33F9B800#32
  | 20 => 0xB3F5D532#32
  | 21 => 0x33F21BD6#32
  | 22 => 0xB3EE8A1F#32
  | 23 => 0x33EB1E5A#32
  | 24 => 0xB3E7D6EF#32
  | 25 => 0x33E4B25D#32
  | 26 => 0xB3E1AF3D#32
  | 27 => 0x33DECC38#32
  | 28 => 0xB3DC0810#32
  | 29 => 0x33D96196#32
  | 30 => 0xB3D6D7AE#32
  | 31 => 0x33D4694B#32
  | 32 => 0xB3D21572#32
  | 33 => 0x33CFDB34#32
  | 34 => 0xB3CDB9B1#32
  | 35 => 0x33CBB015#32
  | 36 => 0xB3C9BD97#32
  | 37 => 0x33C7E17D#32
  | 38 => 0xB3C61B15#32
  | 39 => 0x33C469B8#32
  | 40 => 0xB3C2CCC7#32
  | 41 => 0x33C143B0#32
  | 42 => 0xB3BFCDE6#32
  | 43 => 0x33BE6AE7#32
  | 44 => 0xB3BD1A36#32
  | 45 => 0x33BBDB61#32
  | 46 => 0xB3BAADFB#32
  | 47 => 0x33B9919E#32
  | 48 => 0xB3B885EC#32
  | 49 => 0x33B78A8A#32
  | 50 => 0xB3B69F28#32
  | 51 => 0x33B5C377#32
  | 52 => 0xB3B4F732#32
  | 53 => 0x33B43A15#32
  | 54 => 0xB3B38BE5#32
  | 55 => 0x33B2EC6A#32
  | 56 => 0xB3B25B72#32
  | 57 => 0x33B1D8CF#32
  | 58 => 0xB3B16459#32
  | 59 => 0x33B0FDEA#32
  | 60 => 0xB3B0A563#32
  | 61 => 0x33B05AA9#32
  | 62 => 0xB3B01DA5#32
  | 63 => 0x33AFEE43#32
  | 64 => 0xB3AFCC75#32
  | 65 => 0x33AFB831#32
  | 66 => 0xB3AFB170#32
  | 67 => 0x33AFB831#32
  | 68 => 0xB3AFCC75#32
  | 69 => 0x33AFEE43#32
  | 70 => 0xB3B01DA5#32
  | 71 => 0x33B05AA9#32
  | 72 => 0xB3B0A563#32
  | 73 => 0x33B0FDEA#32
  | 74 => 0xB3B16459#32
  | 75 => 0x33B1D8CF#32
  | 76 => 0xB3B25B72#32
  | 77 => 0x33B2EC6A#32
  | 78 => 0xB3B38BE5#32
  | 79 => 0x33B43A15#32
  | 80 => 0xB3B4F732#32
  | 81 => 0x33B5C377#32
  | 82 => 0xB3B69F28#32
  | 83 => 0x33B78A8A#32
  | 84 => 0xB3B885EC#32
  | 85 => 0x33B9919E#32
  | 86 => 0xB3BAADFB#32
  | 87 => 0x33BBDB61#32
  | 88 => 0xB3BD1A36#32
  | 89 => 0x33BE6AE7#32
  | 90 => 0xB3BFCDE6#32
  | 91 => 0x33C143B0#32
  | 92 => 0xB3C2CCC7#32
  | 93 => 0x33C469B8#32
  | 94 => 0xB3C61B15#32
  | 95 => 0x33C7E17D#32
  | 96 => 0xB3C9BD97#32
  | 97 => 0x33CBB015#32
  | 98 => 0xB3CDB9B1#32
  | 99 => 0x33CFDB34#32
  | 100 => 0xB3D21572#32
  | 101 => 0x33D4694B#32
  | 102 => 0xB3D6D7AE#32
  | 103 => 0x33D96196#32
  | 104 => 0xB3DC0810#32
  | 105 => 0x33DECC38#32
  | 106 => 0xB3E1AF3D#32
  | 107 => 0x33E4B25D#32
  | 108 => 0xB3E7D6EF#32
  | 109 => 0x33EB1E5A#32
  | 110 => 0xB3EE8A1F#32
  | 111 => 0x33F21BD6#32
  | 112 => 0xB3F5D532#32
  | 113 => 0x33F9B800#32
  | 114 => 0xB3FDC62E#32
  | 115 => 0x340100E3#32
  | 116 => 0xB403367C#32
  | 117 => 0x3405850C#32
  | 118 => 0xB407EDD1#32
  | 119 => 0x340A721F#32
  | 120 => 0xB40D1360#32
  | 121 => 0x340FD31A#32
  | 122 => 0xB412B2ED#32
  | 123 => 0x3415B495#32
  | 124 => 0xB418D9F0#32
  | 125 => 0x341C2500#32
  | 126 => 0xB41F97EA#32
  | 127 => 0x342334FF#32
  | _ => 0#32

noncomputable abbrev lit0t0_389 (i : Nat) : BitVec 32 := match i % 128 with
  | 0 => 0xB426FEBD#32
  | 1 => 0x342AF7D2#32
  | 2 => 0xB42F2322#32
  | 3 => 0x343383CC#32
  | 4 => 0xB4381D32#32
  | 5 => 0x343CF2FA#32
  | 6 => 0xB4420919#32
  | 7 => 0x344763DA#32
  | 8 => 0xB44D07E6#32
  | 9 => 0x3452FA51#32
  | 10 => 0xB45940A1#32
  | 11 => 0x345FE0DA#32
  | 12 => 0xB466E193#32
  | 13 => 0x346E49FF#32
  | 14 => 0xB4762200#32
  | 15 => 0x347E723F#32
  | 16 => 0xB483A221#32
  | 17 => 0x34885142#32
  | 18 => 0xB48D4C4D#32
  | 19 => 0x349299A5#32
  | 20 => 0xB4984061#32
  | 21 => 0x349E485F#32
  | 22 => 0xB4A4BA5F#32
  | 23 => 0x34ABA023#32
  | 24 => 0xB4B30492#32
  | 25 => 0x34BAF3E5#32
  | 26 => 0xB4C37BD6#32
  | 27 => 0x34CCABDA#32
  | 28 => 0xB4D69568#32
  | 29 => 0x34E14C49#32
  | 30 => 0xB4ECE6F7#32
  | 31 => 0x34F97F13#32
  | 32 => 0xB50398F7#32
  | 33 => 0x350B1097#32
  | 34 => 0xB51339CD#32
  | 35 => 0x351C2B08#32
  | 36 => 0xB525FE56#32
  | 37 => 0x3530D21D#32
  | 38 => 0xB53CCA00#32
  | 39 => 0x354A0FF9#32
  | 40 => 0xB558D5BB#32
  | 41 => 0x35695670#32
  | 42 => 0xB57BD8F1#32
  | 43 => 0x3588594C#32
  | 44 => 0xB5942572#32
  | 45 => 0x35A19018#32
  | 46 => 0xB5B0E6EF#32
  | 47 => 0x35C28A3B#32
  | 48 => 0xB5D6F23A#32
  | 49 => 0x35EEB658#32
  | 50 => 0xB6054B76#32
  | 51 => 0x3615C529#32
  | 52 => 0xB6296767#32
  | 53 => 0x3641014B#32
  | 54 => 0xB65DA20C#32
  | 55 => 0x368056F2#32
  | 56 => 0xB695FBC4#32
  | 57 => 0x36B0ED61#32
  | 58 => 0xB6D29E9B#32
  | 59 => 0x36FFBDB2#32
  | 60 => 0xB692EE32#32
  | 61 => 0x391EBB1A#32
  | 62 => 0x3B12D0DF#32
  | 63 => 0x3CA0086D#32
  | 64 => 0x3DBAD58B#32
  | 65 => 0x3E6BB748#32
  | 66 => 0x3EA069FE#32
  | 67 => 0x3E6BB748#32
  | 68 => 0x3DBAD58B#32
  | 69 => 0x3CA0086D#32
  | 70 => 0x3B12D0DF#32
  | 71 => 0x391EBB1A#32
  | 72 => 0xB692EE32#32
  | 73 => 0x36FFBDB2#32
  | 74 => 0xB6D29E9B#32
  | 75 => 0x36B0ED61#32
  | 76 => 0xB695FBC4#32
  | 77 => 0x368056F2#32
  | 78 => 0xB65DA20C#32
  | 79 => 0x3641014B#32
  | 80 => 0xB6296767#32
  | 81 => 0x3615C529#32
  | 82 => 0xB6054B76#32
  | 83 => 0x35EEB658#32
  | 84 => 0xB5D6F23A#32
  | 85 => 0x35C28A3B#32
  | 86 => 0xB5B0E6EF#32
  | 87 => 0x35A19018#32
  | 88 => 0xB5942572#32
  | 89 => 0x3588594C#32
  | 90 => 0xB57BD8F1#32
  | 91 => 0x35695670#32
  | 92 => 0xB558D5BB#32
  | 93 => 0x354A0FF9#32
  | 94 => 0xB53CCA00#32
  | 95 => 0x3530D21D#32
  | 96 => 0xB525FE56#32
  | 97 => 0x351C2B08#32
  | 98 => 0xB51339CD#32
  | 99 => 0x350B1097#32
  | 100 => 0xB50398F7#32
  | 101 => 0x34F97F13#32
  | 102 => 0xB4ECE6F7#32
  | 103 => 0x34E14C49#32
  | 104 => 0xB4D69568#32
  | 105 => 0x34CCABDA#32
  | 106 => 0xB4C37BD6#32
  | 107 => 0x34BAF3E5#32
  | 108 => 0xB4B30492#32
  | 109 => 0x34ABA023#32
  | 110 => 0xB4A4BA5F#32
  | 111 => 0x349E485F#32
  | 112 => 0xB4984061#32
  | 113 => 0x349299A5#32
  | 114 => 0xB48D4C4D#32
  | 115 => 0x34885143#32
  | 116 => 0xB483A221#32
  | 117 => 0x347E723F#32
  | 118 => 0xB4762200#32
  | 119 => 0x346E49FF#32
  | 120 => 0xB466E193#32
  | 121 => 0x345FE0DA#32
  | 122 => 0xB45940A1#32
  | 123 => 0x3452FA51#32
  | 124 => 0xB44D07E6#32
  | 125 => 0x344763DA#32
  | 126 => 0xB4420919#32
  | 127 => 0x343CF2FA#32
  | _ => 0#32

noncomputable abbrev lit0t0_390 (i : Nat) : BitVec 32 := match i % 128 with
  | 0 => 0x343CF2FA#32
  | 1 => 0xB4381D32#32
  | 2 => 0x343383CC#32
  | 3 => 0xB42F2322#32
  | 4 => 0x342AF7D2#32
  | 5 => 0xB426FEBD#32
  | 6 => 0x342334FF#32
  | 7 => 0xB41F97EA#32
  | 8 => 0x341C2500#32
  | 9 => 0xB418D9F0#32
  | 10 => 0x3415B495#32
  | 11 => 0xB412B2ED#32
  | 12 => 0x340FD31A#32
  | 13 => 0xB40D1360#32
  | 14 => 0x340A721F#32
  | 15 => 0xB407EDD1#32
  | 16 => 0x3405850C#32
  | 17 => 0xB403367C#32
  | 18 => 0x340100E3#32
  | 19 => 0xB3FDC62E#32
  | 20 => 0x33F9B800#32
  | 21 => 0xB3F5D532#32
  | 22 => 0x33F21BD6#32
  | 23 => 0xB3EE8A1F#32
  | 24 => 0x33EB1E5A#32
  | 25 => 0xB3E7D6EF#32
  | 26 => 0x33E4B25D#32
  | 27 => 0xB3E1AF3D#32
  | 28 => 0x33DECC38#32
  | 29 => 0xB3DC0810#32
  | 30 => 0x33D96196#32
  | 31 => 0xB3D6D7AE#32
  | 32 => 0x33D4694B#32
  | 33 => 0xB3D21572#32
  | 34 => 0x33CFDB34#32
  | 35 => 0xB3CDB9B1#32
  | 36 => 0x33CBB015#32
  | 37 => 0xB3C9BD97#32
  | 38 => 0x33C7E17D#32
  | 39 => 0xB3C61B15#32
  | 40 => 0x33C469B8#32
  | 41 => 0xB3C2CCC7#32
  | 42 => 0x33C143B0#32
  | 43 => 0xB3BFCDE6#32
  | 44 => 0x33BE6AE7#32
  | 45 => 0xB3BD1A36#32
  | 46 => 0x33BBDB61#32
  | 47 => 0xB3BAADFB#32
  | 48 => 0x33B9919E#32
  | 49 => 0xB3B885EC#32
  | 50 => 0x33B78A8A#32
  | 51 => 0xB3B69F28#32
  | 52 => 0x33B5C377#32
  | 53 => 0xB3B4F732#32
  | 54 => 0x33B43A15#32
  | 55 => 0xB3B38BE5#32
  | 56 => 0x33B2EC6A#32
  | 57 => 0xB3B25B72#32
  | 58 => 0x33B1D8CF#32
  | 59 => 0xB3B16459#32
  | 60 => 0x33B0FDEA#32
  | 61 => 0xB3B0A563#32
  | 62 => 0x33B05AA9#32
  | 63 => 0xB3B01DA5#32
  | 64 => 0x33AFEE43#32
  | 65 => 0xB3AFCC75#32
  | 66 => 0x33AFB831#32
  | 67 => 0xB3AFB170#32
  | 68 => 0x33AFB831#32
  | 69 => 0xB3AFCC75#32
  | 70 => 0x33AFEE43#32
  | 71 => 0xB3B01DA5#32
  | 72 => 0x33B05AA9#32
  | 73 => 0xB3B0A563#32
  | 74 => 0x33B0FDEA#32
  | 75 => 0xB3B16459#32
  | 76 => 0x33B1D8CF#32
  | 77 => 0xB3B25B72#32
  | 78 => 0x33B2EC6A#32
  | 79 => 0xB3B38BE5#32
  | 80 => 0x33B43A15#32
  | 81 => 0xB3B4F732#32
  | 82 => 0x33B5C377#32
  | 83 => 0xB3B69F28#32
  | 84 => 0x33B78A8A#32
  | 85 => 0xB3B885EC#32
  | 86 => 0x33B9919E#32
  | 87 => 0xB3BAADFB#32
  | 88 => 0x33BBDB61#32
  | 89 => 0xB3BD1A36#32
  | 90 => 0x33BE6AE7#32
  | 91 => 0xB3BFCDE6#32
  | 92 => 0x33C143B0#32
  | 93 => 0xB3C2CCC7#32
  | 94 => 0x33C469B8#32
  | 95 => 0xB3C61B15#32
  | 96 => 0x33C7E17D#32
  | 97 => 0xB3C9BD97#32
  | 98 => 0x33CBB015#32
  | 99 => 0xB3CDB9B1#32
  | 100 => 0x33CFDB34#32
  | 101 => 0xB3D21572#32
  | 102 => 0x33D4694B#32
  | 103 => 0xB3D6D7AE#32
  | 104 => 0x33D96196#32
  | 105 => 0xB3DC0810#32
  | 106 => 0x33DECC38#32
  | 107 => 0xB3E1AF3D#32
  | 108 => 0x33E4B25D#32
  | 109 => 0xB3E7D6EF#32
  | 110 => 0x33EB1E5A#32
  | 111 => 0xB3EE8A1F#32
  | 112 => 0x33F21BD6#32
  | 113 => 0xB3F5D532#32
  | 114 => 0x33F9B800#32
  | 115 => 0xB3FDC62E#32
  | 116 => 0x340100E3#32
  | 117 => 0xB403367C#32
  | 118 => 0x3405850C#32
  | 119 => 0xB407EDD1#32
  | 120 => 0x340A721F#32
  | 121 => 0xB40D1360#32
  | 122 => 0x340FD31A#32
  | 123 => 0xB412B2ED#32
  | 124 => 0x3415B495#32
  | 125 => 0xB418D9F0#32
  | 126 => 0x341C2500#32
  | 127 => 0xB41F97EA#32
  | _ => 0#32

noncomputable abbrev lit0t0_391 (i : Nat) : BitVec 32 := match i % 128 with
  | 0 => 0x342334FF#32
  | 1 => 0xB426FEBD#32
  | 2 => 0x342AF7D2#32
  | 3 => 0xB42F2322#32
  | 4 => 0x343383CC#32
  | 5 => 0xB4381D32#32
  | 6 => 0x343CF2FA#32
  | 7 => 0xB4420919#32
  | 8 => 0x344763DA#32
  | 9 => 0xB44D07E6#32
  | 10 => 0x3452FA51#32
  | 11 => 0xB45940A1#32
  | 12 => 0x345FE0DA#32
  | 13 => 0xB466E193#32
  | 14 => 0x346E49FF#32
  | 15 => 0xB4762200#32
  | 16 => 0x347E723F#32
  | 17 => 0xB483A221#32
  | 18 => 0x34885143#32
  | 19 => 0xB48D4C4D#32
  | 20 => 0x349299A5#32
  | 21 => 0xB4984061#32
  | 22 => 0x349E485F#32
  | 23 => 0xB4A4BA5F#32
  | 24 => 0x34ABA023#32
  | 25 => 0xB4B30492#32
  | 26 => 0x34BAF3E5#32
  | 27 => 0xB4C37BD6#32
  | 28 => 0x34CCABDA#32
  | 29 => 0xB4D69568#32
  | 30 => 0x34E14C49#32
  | 31 => 0xB4ECE6F7#32
  | 32 => 0x34F97F13#32
  | 33 => 0xB50398F7#32
  | 34 => 0x350B1097#32
  | 35 => 0xB51339CD#32
  | 36 => 0x351C2B08#32
  | 37 => 0xB525FE56#32
  | 38 => 0x3530D21D#32
  | 39 => 0xB53CCA00#32
  | 40 => 0x354A0FF9#32
  | 41 => 0xB558D5BB#32
  | 42 => 0x35695670#32
  | 43 => 0xB57BD8F1#32
  | 44 => 0x3588594C#32
  | 45 => 0xB5942572#32
  | 46 => 0x35A19018#32
  | 47 => 0xB5B0E6EF#32
  | 48 => 0x35C28A3B#32
  | 49 => 0xB5D6F23A#32
  | 50 => 0x35EEB658#32
  | 51 => 0xB6054B76#32
  | 52 => 0x3615C529#32
  | 53 => 0xB6296767#32
  | 54 => 0x3641014B#32
  | 55 => 0xB65DA20C#32
  | 56 => 0x368056F2#32
  | 57 => 0xB695FBC4#32
  | 58 => 0x36B0ED61#32
  | 59 => 0xB6D29E9B#32
  | 60 => 0x36FFBDB2#32
  | 61 => 0xB692EE32#32
  | 62 => 0x391EBB1A#32
  | 63 => 0x3B12D0DF#32
  | 64 => 0x3CA0086D#32
  | 65 => 0x3DBAD58B#32
  | 66 => 0x3E6BB748#32
  | 67 => 0x3EA069FE#32
  | 68 => 0x3E6BB748#32
  | 69 => 0x3DBAD58B#32
  | 70 => 0x3CA0086D#32
  | 71 => 0x3B12D0DF#32
  | 72 => 0x391EBB1A#32
  | 73 => 0xB692EE32#32
  | 74 => 0x36FFBDB2#32
  | 75 => 0xB6D29E9B#32
  | 76 => 0x36B0ED61#32
  | 77 => 0xB695FBC4#32
  | 78 => 0x368056F2#32
  | 79 => 0xB65DA20C#32
  | 80 => 0x3641014B#32
  | 81 => 0xB6296767#32
  | 82 => 0x3615C529#32
  | 83 => 0xB6054B76#32
  | 84 => 0x35EEB658#32
  | 85 => 0xB5D6F23A#32
  | 86 => 0x35C28A3B#32
  | 87 => 0xB5B0E6EF#32
  | 88 => 0x35A19018#32
  | 89 => 0xB5942572#32
  | 90 => 0x3588594C#32
  | 91 => 0xB57BD8F1#32
  | 92 => 0x35695670#32
  | 93 => 0xB558D5BB#32
  | 94 => 0x354A0FF9#32
  | 95 => 0xB53CCA00#32
  | 96 => 0x3530D21D#32
  | 97 => 0xB525FE56#32
  | 98 => 0x351C2B08#32
  | 99 => 0xB51339CD#32
  | 100 => 0x350B1097#32
  | 101 => 0xB50398F7#32
  | 102 => 0x34F97F13#32
  | 103 => 0xB4ECE6F7#32
  | 104 => 0x34E14C49#32
  | 105 => 0xB4D69568#32
  | 106 => 0x34CCABDA#32
  | 107 => 0xB4C37BD6#32
  | 108 => 0x34BAF3E5#32
  | 109 => 0xB4B30492#32
  | 110 => 0x34ABA023#32
  | 111 => 0xB4A4BA5F#32
  | 112 => 0x349E485F#32
  | 113 => 0xB4984061#32
  | 114 => 0x349299A5#32
  | 115 => 0xB48D4C4D#32
  | 116 => 0x34885143#32
  | 117 => 0xB483A221#32
  | 118 => 0x347E723F#32
  | 119 => 0xB4762200#32
  | 120 => 0x346E49FF#32
  | 121 => 0xB466E193#32
  | 122 => 0x345FE0DA#32
  | 123 => 0xB45940A1#32
  | 124 => 0x3452FA51#32
  | 125 => 0xB44D07E6#32
  | 126 => 0x344763DA#32
  | 127 => 0xB4420919#32
  | _ => 0#32

noncomputable abbrev lit0t0_392 (i : Nat) : BitVec 32 := match i % 128 with
  | 0 => 0xB4420919#32
  | 1 => 0x343CF2FA#32
  | 2 => 0xB4381D32#32
  | 3 => 0x343383CC#32
  | 4 => 0xB42F2322#32
  | 5 => 0x342AF7D2#32
  | 6 => 0xB426FEBD#32
  | 7 => 0x342334FF#32
  | 8 => 0xB41F97EA#32
  | 9 => 0x341C2500#32
  | 10 => 0xB418D9F0#32
  | 11 => 0x3415B495#32
  | 12 => 0xB412B2ED#32
  | 13 => 0x340FD31A#32
  | 14 => 0xB40D1360#32
  | 15 => 0x340A721F#32
  | 16 => 0xB407EDD1#32
  | 17 => 0x3405850C#32
  | 18 => 0xB403367C#32
  | 19 => 0x340100E3#32
  | 20 => 0xB3FDC62E#32
  | 21 => 0x33F9B800#32
  | 22 => 0xB3F5D532#32
  | 23 => 0x33F21BD6#32
  | 24 => 0xB3EE8A1F#32
  | 25 => 0x33EB1E5A#32
  | 26 => 0xB3E7D6EF#32
  | 27 => 0x33E4B25D#32
  | 28 => 0xB3E1AF3D#32
  | 29 => 0x33DECC38#32
  | 30 => 0xB3DC0810#32
  | 31 => 0x33D96196#32
  | 32 => 0xB3D6D7AE#32
  | 33 => 0x33D4694B#32
  | 34 => 0xB3D21572#32
  | 35 => 0x33CFDB34#32
  | 36 => 0xB3CDB9B1#32
  | 37 => 0x33CBB015#32
  | 38 => 0xB3C9BD97#32
  | 39 => 0x33C7E17D#32
  | 40 => 0xB3C61B15#32
  | 41 => 0x33C469B8#32
  | 42 => 0xB3C2CCC7#32
  | 43 => 0x33C143B0#32
  | 44 => 0xB3BFCDE6#32
  | 45 => 0x33BE6AE7#32
  | 46 => 0xB3BD1A36#32
  | 47 => 0x33BBDB61#32
  | 48 => 0xB3BAADFB#32
  | 49 => 0x33B9919E#32
  | 50 => 0xB3B885EC#32
  | 51 => 0x33B78A8A#32
  | 52 => 0xB3B69F28#32
  | 53 => 0x33B5C377#32
  | 54 => 0xB3B4F732#32
  | 55 => 0x33B43A15#32
  | 56 => 0xB3B38BE5#32
  | 57 => 0x33B2EC6A#32
  | 58 => 0xB3B25B72#32
  | 59 => 0x33B1D8CF#32
  | 60 => 0xB3B16459#32
  | 61 => 0x33B0FDEA#32
  | 62 => 0xB3B0A563#32
  | 63 => 0x33B05AA9#32
  | 64 => 0xB3B01DA5#32
  | 65 => 0x33AFEE43#32
  | 66 => 0xB3AFCC75#32
  | 67 => 0x33AFB831#32
  | 68 => 0xB3AFB170#32
  | 69 => 0x33AFB831#32
  | 70 => 0xB3AFCC75#32
  | 71 => 0x33AFEE43#32
  | 72 => 0xB3B01DA5#32
  | 73 => 0x33B05AA9#32
  | 74 => 0xB3B0A563#32
  | 75 => 0x33B0FDEA#32
  | 76 => 0xB3B16459#32
  | 77 => 0x33B1D8CF#32
  | 78 => 0xB3B25B72#32
  | 79 => 0x33B2EC6A#32
  | 80 => 0xB3B38BE5#32
  | 81 => 0x33B43A15#32
  | 82 => 0xB3B4F732#32
  | 83 => 0x33B5C377#32
  | 84 => 0xB3B69F28#32
  | 85 => 0x33B78A8A#32
  | 86 => 0xB3B885EC#32
  | 87 => 0x33B9919E#32
  | 88 => 0xB3BAADFB#32
  | 89 => 0x33BBDB61#32
  | 90 => 0xB3BD1A36#32
  | 91 => 0x33BE6AE7#32
  | 92 => 0xB3BFCDE6#32
  | 93 => 0x33C143B0#32
  | 94 => 0xB3C2CCC7#32
  | 95 => 0x33C469B8#32
  | 96 => 0xB3C61B15#32
  | 97 => 0x33C7E17D#32
  | 98 => 0xB3C9BD97#32
  | 99 => 0x33CBB015#32
  | 100 => 0xB3CDB9B1#32
  | 101 => 0x33CFDB34#32
  | 102 => 0xB3D21572#32
  | 103 => 0x33D4694B#32
  | 104 => 0xB3D6D7AE#32
  | 105 => 0x33D96196#32
  | 106 => 0xB3DC0810#32
  | 107 => 0x33DECC38#32
  | 108 => 0xB3E1AF3D#32
  | 109 => 0x33E4B25D#32
  | 110 => 0xB3E7D6EF#32
  | 111 => 0x33EB1E5A#32
  | 112 => 0xB3EE8A1F#32
  | 113 => 0x33F21BD6#32
  | 114 => 0xB3F5D532#32
  | 115 => 0x33F9B800#32
  | 116 => 0xB3FDC62E#32
  | 117 => 0x340100E3#32
  | 118 => 0xB403367C#32
  | 119 => 0x3405850C#32
  | 120 => 0xB407EDD1#32
  | 121 => 0x340A721F#32
  | 122 => 0xB40D1360#32
  | 123 => 0x340FD31A#32
  | 124 => 0xB412B2ED#32
  | 125 => 0x3415B495#32
  | 126 => 0xB418D9F0#32
  | 127 => 0x341C2500#32
  | _ => 0#32

noncomputable abbrev lit0t0_393 (i : Nat) : BitVec 32 := match i % 128 with
  | 0 => 0xB41F97EA#32
  | 1 => 0x342334FF#32
  | 2 => 0xB426FEBD#32
  | 3 => 0x342AF7D2#32
  | 4 => 0xB42F2322#32
  | 5 => 0x343383CC#32
  | 6 => 0xB4381D32#32
  | 7 => 0x343CF2FA#32
  | 8 => 0xB4420919#32
  | 9 => 0x344763DA#32
  | 10 => 0xB44D07E6#32
  | 11 => 0x3452FA51#32
  | 12 => 0xB45940A1#32
  | 13 => 0x345FE0DA#32
  | 14 => 0xB466E193#32
  | 15 => 0x346E49FF#32
  | 16 => 0xB4762200#32
  | 17 => 0x347E723F#32
  | 18 => 0xB483A221#32
  | 19 => 0x34885142#32
  | 20 => 0xB48D4C4D#32
  | 21 => 0x349299A5#32
  | 22 => 0xB4984061#32
  | 23 => 0x349E485F#32
  | 24 => 0xB4A4BA5F#32
  | 25 => 0x34ABA023#32
  | 26 => 0xB4B30492#32
  | 27 => 0x34BAF3E5#32
  | 28 => 0xB4C37BD6#32
  | 29 => 0x34CCABDA#32
  | 30 => 0xB4D69568#32
  | 31 => 0x34E14C49#32
  | 32 => 0xB4ECE6F7#32
  | 33 => 0x34F97F13#32
  | 34 => 0xB50398F7#32
  | 35 => 0x350B1097#32
  | 36 => 0xB51339CD#32
  | 37 => 0x351C2B08#32
  | 38 => 0xB525FE56#32
  | 39 => 0x3530D21D#32
  | 40 => 0xB53CCA00#32
  | 41 => 0x354A0FF9#32
  | 42 => 0xB558D5BB#32
  | 43 => 0x35695670#32
  | 44 => 0xB57BD8F1#32
  | 45 => 0x3588594C#32
  | 46 => 0xB5942572#32
  | 47 => 0x35A19018#32
  | 48 => 0xB5B0E6EF#32
  | 49 => 0x35C28A3B#32
  | 50 => 0xB5D6F23A#32
  | 51 => 0x35EEB658#32
  | 52 => 0xB6054B76#32
  | 53 => 0x3615C529#32
  | 54 => 0xB6296767#32
  | 55 => 0x3641014B#32
  | 56 => 0xB65DA20C#32
  | 57 => 0x368056F2#32
  | 58 => 0xB695FBC4#32
  | 59 => 0x36B0ED61#32
  | 60 => 0xB6D29E9B#32
  | 61 => 0x36FFBDB2#32
  | 62 => 0xB692EE32#32
  | 63 => 0x391EBB1A#32
  | 64 => 0x3B12D0DF#32
  | 65 => 0x3CA0086D#32
  | 66 => 0x3DBAD58B#32
  | 67 => 0x3E6BB748#32
  | 68 => 0x3EA069FE#32
  | 69 => 0x3E6BB748#32
  | 70 => 0x3DBAD58B#32
  | 71 => 0x3CA0086D#32
  | 72 => 0x3B12D0DF#32
  | 73 => 0x391EBB1A#32
  | 74 => 0xB692EE32#32
  | 75 => 0x36FFBDB2#32
  | 76 => 0xB6D29E9B#32
  | 77 => 0x36B0ED61#32
  | 78 => 0xB695FBC4#32
  | 79 => 0x368056F2#32
  | 80 => 0xB65DA20C#32
  | 81 => 0x3641014B#32
  | 82 => 0xB6296767#32
  | 83 => 0x3615C529#32
  | 84 => 0xB6054B76#32
  | 85 => 0x35EEB658#32
  | 86 => 0xB5D6F23A#32
  | 87 => 0x35C28A3B#32
  | 88 => 0xB5B0E6EF#32
  | 89 => 0x35A19018#32
  | 90 => 0xB5942572#32
  | 91 => 0x3588594C#32
  | 92 => 0xB57BD8F1#32
  | 93 => 0x35695670#32
  | 94 => 0xB558D5BB#32
  | 95 => 0x354A0FF9#32
  | 96 => 0xB53CCA00#32
  | 97 => 0x3530D21D#32
  | 98 => 0xB525FE56#32
  | 99 => 0x351C2B08#32
  | 100 => 0xB51339CD#32
  | 101 => 0x350B1097#32
  | 102 => 0xB50398F7#32
  | 103 => 0x34F97F13#32
  | 104 => 0xB4ECE6F7#32
  | 105 => 0x34E14C49#32
  | 106 => 0xB4D69568#32
  | 107 => 0x34CCABDA#32
  | 108 => 0xB4C37BD6#32
  | 109 => 0x34BAF3E5#32
  | 110 => 0xB4B30492#32
  | 111 => 0x34ABA023#32
  | 112 => 0xB4A4BA5F#32
  | 113 => 0x349E485F#32
  | 114 => 0xB4984061#32
  | 115 => 0x349299A5#32
  | 116 => 0xB48D4C4D#32
  | 117 => 0x34885143#32
  | 118 => 0xB483A221#32
  | 119 => 0x347E723F#32
  | 120 => 0xB4762200#32
  | 121 => 0x346E49FF#32
  | 122 => 0xB466E193#32
  | 123 => 0x345FE0DA#32
  | 124 => 0xB45940A1#32
  | 125 => 0x3452FA51#32
  | 126 => 0xB44D07E6#32
  | 127 => 0x344763DA#32
  | _ => 0#32

noncomputable abbrev lit0t0_394 (i : Nat) : BitVec 32 := match i % 128 with
  | 0 => 0x344763DA#32
  | 1 => 0xB4420919#32
  | 2 => 0x343CF2FA#32
  | 3 => 0xB4381D32#32
  | 4 => 0x343383CC#32
  | 5 => 0xB42F2322#32
  | 6 => 0x342AF7D2#32
  | 7 => 0xB426FEBD#32
  | 8 => 0x342334FF#32
  | 9 => 0xB41F97EA#32
  | 10 => 0x341C2500#32
  | 11 => 0xB418D9F0#32
  | 12 => 0x3415B495#32
  | 13 => 0xB412B2ED#32
  | 14 => 0x340FD31A#32
  | 15 => 0xB40D1360#32
  | 16 => 0x340A721F#32
  | 17 => 0xB407EDD1#32
  | 18 => 0x3405850C#32
  | 19 => 0xB403367C#32
  | 20 => 0x340100E3#32
  | 21 => 0xB3FDC62E#32
  | 22 => 0x33F9B800#32
  | 23 => 0xB3F5D532#32
  | 24 => 0x33F21BD6#32
  | 25 => 0xB3EE8A1F#32
  | 26 => 0x33EB1E5A#32
  | 27 => 0xB3E7D6EF#32
  | 28 => 0x33E4B25D#32
  | 29 => 0xB3E1AF3D#32
  | 30 => 0x33DECC38#32
  | 31 => 0xB3DC0810#32
  | 32 => 0x33D96196#32
  | 33 => 0xB3D6D7AE#32
  | 34 => 0x33D4694B#32
  | 35 => 0xB3D21572#32
  | 36 => 0x33CFDB34#32
  | 37 => 0xB3CDB9B1#32
  | 38 => 0x33CBB015#32
  | 39 => 0xB3C9BD97#32
  | 40 => 0x33C7E17D#32
  | 41 => 0xB3C61B15#32
  | 42 => 0x33C469B8#32
  | 43 => 0xB3C2CCC7#32
  | 44 => 0x33C143B0#32
  | 45 => 0xB3BFCDE6#32
  | 46 => 0x33BE6AE7#32
  | 47 => 0xB3BD1A36#32
  | 48 => 0x33BBDB61#32
  | 49 => 0xB3BAADFB#32
  | 50 => 0x33B9919E#32
  | 51 => 0xB3B885EC#32
  | 52 => 0x33B78A8A#32
  | 53 => 0xB3B69F28#32
  | 54 => 0x33B5C377#32
  | 55 => 0xB3B4F732#32
  | 56 => 0x33B43A15#32
  | 57 => 0xB3B38BE5#32
  | 58 => 0x33B2EC6A#32
  | 59 => 0xB3B25B72#32
  | 60 => 0x33B1D8CF#32
  | 61 => 0xB3B16459#32
  | 62 => 0x33B0FDEA#32
  | 63 => 0xB3B0A563#32
  | 64 => 0x33B05AA9#32
  | 65 => 0xB3B01DA5#32
  | 66 => 0x33AFEE43#32
  | 67 => 0xB3AFCC75#32
  | 68 => 0x33AFB831#32
  | 69 => 0xB3AFB170#32
  | 70 => 0x33AFB831#32
  | 71 => 0xB3AFCC75#32
  | 72 => 0x33AFEE43#32
  | 73 => 0xB3B01DA5#32
  | 74 => 0x33B05AA9#32
  | 75 => 0xB3B0A563#32
  | 76 => 0x33B0FDEA#32
  | 77 => 0xB3B16459#32
  | 78 => 0x33B1D8CF#32
  | 79 => 0xB3B25B72#32
  | 80 => 0x33B2EC6A#32
  | 81 => 0xB3B38BE5#32
  | 82 => 0x33B43A15#32
  | 83 => 0xB3B4F732#32
  | 84 => 0x33B5C377#32
  | 85 => 0xB3B69F28#32
  | 86 => 0x33B78A8A#32
  | 87 => 0xB3B885EC#32
  | 88 => 0x33B9919E#32
  | 89 => 0xB3BAADFB#32
  | 90 => 0x33BBDB61#32
  | 91 => 0xB3BD1A36#32
  | 92 => 0x33BE6AE7#32
  | 93 => 0xB3BFCDE6#32
  | 94 => 0x33C143B0#32
  | 95 => 0xB3C2CCC7#32
  | 96 => 0x33C469B8#32
  | 97 => 0xB3C61B15#32
  | 98 => 0x33C7E17D#32
  | 99 => 0xB3C9BD97#32
  | 100 => 0x33CBB015#32
  | 101 => 0xB3CDB9B1#32
  | 102 => 0x33CFDB34#32
  | 103 => 0xB3D21572#32
  | 104 => 0x33D4694B#32
  | 105 => 0xB3D6D7AE#32
  | 106 => 0x33D96196#32
  | 107 => 0xB3DC0810#32
  | 108 => 0x33DECC38#32
  | 109 => 0xB3E1AF3D#32
  | 110 => 0x33E4B25D#32
  | 111 => 0xB3E7D6EF#32
  | 112 => 0x33EB1E5A#32
  | 113 => 0xB3EE8A1F#32
  | 114 => 0x33F21BD6#32
  | 115 => 0xB3F5D532#32
  | 116 => 0x33F9B800#32
  | 117 => 0xB3FDC62E#32
  | 118 => 0x340100E3#32
  | 119 => 0xB403367C#32
  | 120 => 0x3405850C#32
  | 121 => 0xB407EDD1#32
  | 122 => 0x340A721F#32
  | 123 => 0xB40D1360#32
  | 124 => 0x340FD31A#32
  | 125 => 0xB412B2ED#32
  | 126 => 0x3415B495#32
  | 127 => 0xB418D9F0#32
  | _ => 0#32

noncomputable abbrev lit0t0_395 (i : Nat) : BitVec 32 := match i % 128 with
  | 0 => 0x341C2500#32
  | 1 => 0xB41F97EA#32
  | 2 => 0x342334FF#32
  | 3 => 0xB426FEBD#32
  | 4 => 0x342AF7D2#32
  | 5 => 0xB42F2322#32
  | 6 => 0x343383CC#32
  | 7 => 0xB4381D32#32
  | 8 => 0x343CF2FA#32
  | 9 => 0xB4420919#32
  | 10 => 0x344763DA#32
  | 11 => 0xB44D07E6#32
  | 12 => 0x3452FA51#32
  | 13 => 0xB45940A1#32
  | 14 => 0x345FE0DA#32
  | 15 => 0xB466E193#32
  | 16 => 0x346E49FF#32
  | 17 => 0xB4762200#32
  | 18 => 0x347E723F#32
  | 19 => 0xB483A221#32
  | 20 => 0x34885143#32
  | 21 => 0xB48D4C4D#32
  | 22 => 0x349299A5#32
  | 23 => 0xB4984061#32
  | 24 => 0x349E485F#32
  | 25 => 0xB4A4BA5F#32
  | 26 => 0x34ABA023#32
  | 27 => 0xB4B30492#32
  | 28 => 0x34BAF3E5#32
  | 29 => 0xB4C37BD6#32
  | 30 => 0x34CCABDA#32
  | 31 => 0xB4D69568#32
  | 32 => 0x34E14C49#32
  | 33 => 0xB4ECE6F7#32
  | 34 => 0x34F97F13#32
  | 35 => 0xB50398F7#32
  | 36 => 0x350B1097#32
  | 37 => 0xB51339CD#32
  | 38 => 0x351C2B08#32
  | 39 => 0xB525FE56#32
  | 40 => 0x3530D21D#32
  | 41 => 0xB53CCA00#32
  | 42 => 0x354A0FF9#32
  | 43 => 0xB558D5BB#32
  | 44 => 0x35695670#32
  | 45 => 0xB57BD8F1#32
  | 46 => 0x3588594C#32
  | 47 => 0xB5942572#32
  | 48 => 0x35A19018#32
  | 49 => 0xB5B0E6EF#32
  | 50 => 0x35C28A3B#32
  | 51 => 0xB5D6F23A#32
  | 52 => 0x35EEB658#32
  | 53 => 0xB6054B76#32
  | 54 => 0x3615C529#32
  | 55 => 0xB6296767#32
  | 56 => 0x3641014B#32
  | 57 => 0xB65DA20C#32
  | 58 => 0x368056F2#32
  | 59 => 0xB695FBC4#32
  | 60 => 0x36B0ED61#32
  | 61 => 0xB6D29E9B#32
  | 62 => 0x36FFBDB2#32
  | 63 => 0xB692EE32#32
  | 64 => 0x391EBB1A#32
  | 65 => 0x3B12D0DF#32
  | 66 => 0x3CA0086D#32
  | 67 => 0x3DBAD58B#32
  | 68 => 0x3E6BB748#32
  | 69 => 0x3EA069FE#32
  | 70 => 0x3E6BB748#32
  | 71 => 0x3DBAD58B#32
  | 72 => 0x3CA0086D#32
  | 73 => 0x3B12D0DF#32
  | 74 => 0x391EBB1A#32
  | 75 => 0xB692EE32#32
  | 76 => 0x36FFBDB2#32
  | 77 => 0xB6D29E9B#32
  | 78 => 0x36B0ED61#32
  | 79 => 0xB695FBC4#32
  | 80 => 0x368056F2#32
  | 81 => 0xB65DA20C#32
  | 82 => 0x3641014B#32
  | 83 => 0xB6296767#32
  | 84 => 0x3615C529#32
  | 85 => 0xB6054B76#32
  | 86 => 0x35EEB658#32
  | 87 => 0xB5D6F23A#32
  | 88 => 0x35C28A3B#32
  | 89 => 0xB5B0E6EF#32
  | 90 => 0x35A19018#32
  | 91 => 0xB5942572#32
  | 92 => 0x3588594C#32
  | 93 => 0xB57BD8F1#32
  | 94 => 0x35695670#32
  | 95 => 0xB558D5BB#32
  | 96 => 0x354A0FF9#32
  | 97 => 0xB53CCA00#32
  | 98 => 0x3530D21D#32
  | 99 => 0xB525FE56#32
  | 100 => 0x351C2B08#32
  | 101 => 0xB51339CD#32
  | 102 => 0x350B1097#32
  | 103 => 0xB50398F7#32
  | 104 => 0x34F97F13#32
  | 105 => 0xB4ECE6F7#32
  | 106 => 0x34E14C49#32
  | 107 => 0xB4D69568#32
  | 108 => 0x34CCABDA#32
  | 109 => 0xB4C37BD6#32
  | 110 => 0x34BAF3E5#32
  | 111 => 0xB4B30492#32
  | 112 => 0x34ABA023#32
  | 113 => 0xB4A4BA5F#32
  | 114 => 0x349E485F#32
  | 115 => 0xB4984061#32
  | 116 => 0x349299A5#32
  | 117 => 0xB48D4C4D#32
  | 118 => 0x34885143#32
  | 119 => 0xB483A221#32
  | 120 => 0x347E723F#32
  | 121 => 0xB4762200#32
  | 122 => 0x346E49FF#32
  | 123 => 0xB466E193#32
  | 124 => 0x345FE0DA#32
  | 125 => 0xB45940A1#32
  | 126 => 0x3452FA51#32
  | 127 => 0xB44D07E6#32
  | _ => 0#32

noncomputable abbrev lit0t0_396 (i : Nat) : BitVec 32 := match i % 128 with
  | 0 => 0xB44D07E6#32
  | 1 => 0x344763DA#32
  | 2 => 0xB4420919#32
  | 3 => 0x343CF2FA#32
  | 4 => 0xB4381D32#32
  | 5 => 0x343383CC#32
  | 6 => 0xB42F2322#32
  | 7 => 0x342AF7D2#32
  | 8 => 0xB426FEBD#32
  | 9 => 0x342334FF#32
  | 10 => 0xB41F97EA#32
  | 11 => 0x341C2500#32
  | 12 => 0xB418D9F0#32
  | 13 => 0x3415B495#32
  | 14 => 0xB412B2ED#32
  | 15 => 0x340FD31A#32
  | 16 => 0xB40D1360#32
  | 17 => 0x340A721F#32
  | 18 => 0xB407EDD1#32
  | 19 => 0x3405850C#32
  | 20 => 0xB403367C#32
  | 21 => 0x340100E3#32
  | 22 => 0xB3FDC62E#32
  | 23 => 0x33F9B800#32
  | 24 => 0xB3F5D532#32
  | 25 => 0x33F21BD6#32
  | 26 => 0xB3EE8A1F#32
  | 27 => 0x33EB1E5A#32
  | 28 => 0xB3E7D6EF#32
  | 29 => 0x33E4B25D#32
  | 30 => 0xB3E1AF3D#32
  | 31 => 0x33DECC38#32
  | 32 => 0xB3DC0810#32
  | 33 => 0x33D96196#32
  | 34 => 0xB3D6D7AE#32
  | 35 => 0x33D4694B#32
  | 36 => 0xB3D21572#32
  | 37 => 0x33CFDB34#32
  | 38 => 0xB3CDB9B1#32
  | 39 => 0x33CBB015#32
  | 40 => 0xB3C9BD97#32
  | 41 => 0x33C7E17D#32
  | 42 => 0xB3C61B15#32
  | 43 => 0x33C469B8#32
  | 44 => 0xB3C2CCC7#32
  | 45 => 0x33C143B0#32
  | 46 => 0xB3BFCDE6#32
  | 47 => 0x33BE6AE7#32
  | 48 => 0xB3BD1A36#32
  | 49 => 0x33BBDB61#32
  | 50 => 0xB3BAADFB#32
  | 51 => 0x33B9919E#32
  | 52 => 0xB3B885EC#32
  | 53 => 0x33B78A8A#32
  | 54 => 0xB3B69F28#32
  | 55 => 0x33B5C377#32
  | 56 => 0xB3B4F732#32
  | 57 => 0x33B43A15#32
  | 58 => 0xB3B38BE5#32
  | 59 => 0x33B2EC6A#32
  | 60 => 0xB3B25B72#32
  | 61 => 0x33B1D8CF#32
  | 62 => 0xB3B16459#32
  | 63 => 0x33B0FDEA#32
  | 64 => 0xB3B0A563#32
  | 65 => 0x33B05AA9#32
  | 66 => 0xB3B01DA5#32
  | 67 => 0x33AFEE43#32
  | 68 => 0xB3AFCC75#32
  | 69 => 0x33AFB831#32
  | 70 => 0xB3AFB170#32
  | 71 => 0x33AFB831#32
  | 72 => 0xB3AFCC75#32
  | 73 => 0x33AFEE43#32
  | 74 => 0xB3B01DA5#32
  | 75 => 0x33B05AA9#32
  | 76 => 0xB3B0A563#32
  | 77 => 0x33B0FDEA#32
  | 78 => 0xB3B16459#32
  | 79 => 0x33B1D8CF#32
  | 80 => 0xB3B25B72#32
  | 81 => 0x33B2EC6A#32
  | 82 => 0xB3B38BE5#32
  | 83 => 0x33B43A15#32
  | 84 => 0xB3B4F732#32
  | 85 => 0x33B5C377#32
  | 86 => 0xB3B69F28#32
  | 87 => 0x33B78A8A#32
  | 88 => 0xB3B885EC#32
  | 89 => 0x33B9919E#32
  | 90 => 0xB3BAADFB#32
  | 91 => 0x33BBDB61#32
  | 92 => 0xB3BD1A36#32
  | 93 => 0x33BE6AE7#32
  | 94 => 0xB3BFCDE6#32
  | 95 => 0x33C143B0#32
  | 96 => 0xB3C2CCC7#32
  | 97 => 0x33C469B8#32
  | 98 => 0xB3C61B15#32
  | 99 => 0x33C7E17D#32
  | 100 => 0xB3C9BD97#32
  | 101 => 0x33CBB015#32
  | 102 => 0xB3CDB9B1#32
  | 103 => 0x33CFDB34#32
  | 104 => 0xB3D21572#32
  | 105 => 0x33D4694B#32
  | 106 => 0xB3D6D7AE#32
  | 107 => 0x33D96196#32
  | 108 => 0xB3DC0810#32
  | 109 => 0x33DECC38#32
  | 110 => 0xB3E1AF3D#32
  | 111 => 0x33E4B25D#32
  | 112 => 0xB3E7D6EF#32
  | 113 => 0x33EB1E5A#32
  | 114 => 0xB3EE8A1F#32
  | 115 => 0x33F21BD6#32
  | 116 => 0xB3F5D532#32
  | 117 => 0x33F9B800#32
  | 118 => 0xB3FDC62E#32
  | 119 => 0x340100E3#32
  | 120 => 0xB403367C#32
  | 121 => 0x3405850C#32
  | 122 => 0xB407EDD1#32
  | 123 => 0x340A721F#32
  | 124 => 0xB40D1360#32
  | 125 => 0x340FD31A#32
  | 126 => 0xB412B2ED#32
  | 127 => 0x3415B495#32
  | _ => 0#32

noncomputable abbrev lit0t0_397 (i : Nat) : BitVec 32 := match i % 128 with
  | 0 => 0xB418D9F0#32
  | 1 => 0x341C2500#32
  | 2 => 0xB41F97EA#32
  | 3 => 0x342334FF#32
  | 4 => 0xB426FEBD#32
  | 5 => 0x342AF7D2#32
  | 6 => 0xB42F2322#32
  | 7 => 0x343383CC#32
  | 8 => 0xB4381D32#32
  | 9 => 0x343CF2FA#32
  | 10 => 0xB4420919#32
  | 11 => 0x344763DA#32
  | 12 => 0xB44D07E6#32
  | 13 => 0x3452FA51#32
  | 14 => 0xB45940A1#32
  | 15 => 0x345FE0DA#32
  | 16 => 0xB466E193#32
  | 17 => 0x346E49FF#32
  | 18 => 0xB4762200#32
  | 19 => 0x347E723F#32
  | 20 => 0xB483A221#32
  | 21 => 0x34885143#32
  | 22 => 0xB48D4C4D#32
  | 23 => 0x349299A5#32
  | 24 => 0xB4984061#32
  | 25 => 0x349E485F#32
  | 26 => 0xB4A4BA5F#32
  | 27 => 0x34ABA023#32
  | 28 => 0xB4B30492#32
  | 29 => 0x34BAF3E5#32
  | 30 => 0xB4C37BD6#32
  | 31 => 0x34CCABDA#32
  | 32 => 0xB4D69568#32
  | 33 => 0x34E14C49#32
  | 34 => 0xB4ECE6F7#32
  | 35 => 0x34F97F13#32
  | 36 => 0xB50398F7#32
  | 37 => 0x350B1097#32
  | 38 => 0xB51339CD#32
  | 39 => 0x351C2B08#32
  | 40 => 0xB525FE56#32
  | 41 => 0x3530D21D#32
  | 42 => 0xB53CCA00#32
  | 43 => 0x354A0FF9#32
  | 44 => 0xB558D5BB#32
  | 45 => 0x35695670#32
  | 46 => 0xB57BD8F1#32
  | 47 => 0x3588594C#32
  | 48 => 0xB5942572#32
  | 49 => 0x35A19018#32
  | 50 => 0xB5B0E6EF#32
  | 51 => 0x35C28A3B#32
  | 52 => 0xB5D6F23A#32
  | 53 => 0x35EEB658#32
  | 54 => 0xB6054B76#32
  | 55 => 0x3615C529#32
  | 56 => 0xB6296767#32
  | 57 => 0x3641014B#32
  | 58 => 0xB65DA20C#32
  | 59 => 0x368056F2#32
  | 60 => 0xB695FBC4#32
  | 61 => 0x36B0ED61#32
  | 62 => 0xB6D29E9B#32
  | 63 => 0x36FFBDB2#32
  | 64 => 0xB692EE32#32
  | 65 => 0x391EBB1A#32
  | 66 => 0x3B12D0DF#32
  | 67 => 0x3CA0086D#32
  | 68 => 0x3DBAD58B#32
  | 69 => 0x3E6BB748#32
  | 70 => 0x3EA069FE#32
  | 71 => 0x3E6BB748#32
  | 72 => 0x3DBAD58B#32
  | 73 => 0x3CA0086D#32
  | 74 => 0x3B12D0DF#32
  | 75 => 0x391EBB1A#32
  | 76 => 0xB692EE32#32
  | 77 => 0x36FFBDB2#32
  | 78 => 0xB6D29E9B#32
  | 79 => 0x36B0ED61#32
  | 80 => 0xB695FBC4#32
  | 81 => 0x368056F2#32
  | 82 => 0xB65DA20C#32
  | 83 => 0x3641014B#32
  | 84 => 0xB6296767#32
  | 85 => 0x3615C529#32
  | 86 => 0xB6054B76#32
  | 87 => 0x35EEB658#32
  | 88 => 0xB5D6F23A#32
  | 89 => 0x35C28A3B#32
  | 90 => 0xB5B0E6EF#32
  | 91 => 0x35A19018#32
  | 92 => 0xB5942572#32
  | 93 => 0x3588594C#32
  | 94 => 0xB57BD8F1#32
  | 95 => 0x35695670#32
  | 96 => 0xB558D5BB#32
  | 97 => 0x354A0FF9#32
  | 98 => 0xB53CCA00#32
  | 99 => 0x3530D21D#32
  | 100 => 0xB525FE56#32
  | 101 => 0x351C2B08#32
  | 102 => 0xB51339CD#32
  | 103 => 0x350B1097#32
  | 104 => 0xB50398F7#32
  | 105 => 0x34F97F13#32
  | 106 => 0xB4ECE6F7#32
  | 107 => 0x34E14C49#32
  | 108 => 0xB4D69568#32
  | 109 => 0x34CCABDA#32
  | 110 => 0xB4C37BD6#32
  | 111 => 0x34BAF3E5#32
  | 112 => 0xB4B30492#32
  | 113 => 0x34ABA023#32
  | 114 => 0xB4A4BA5F#32
  | 115 => 0x349E485F#32
  | 116 => 0xB4984061#32
  | 117 => 0x349299A5#32
  | 118 => 0xB48D4C4D#32
  | 119 => 0x34885143#32
  | 120 => 0xB483A221#32
  | 121 => 0x347E723F#32
  | 122 => 0xB4762200#32
  | 123 => 0x346E49FF#32
  | 124 => 0xB466E193#32
  | 125 => 0x345FE0DA#32
  | 126 => 0xB45940A1#32
  | 127 => 0x3452FA51#32
  | _ => 0#32

noncomputable abbrev lit0t0_398 (i : Nat) : BitVec 32 := match i % 128 with
  | 0 => 0x3452FA51#32
  | 1 => 0xB44D07E6#32
  | 2 => 0x344763DA#32
  | 3 => 0xB4420919#32
  | 4 => 0x343CF2FA#32
  | 5 => 0xB4381D32#32
  | 6 => 0x343383CC#32
  | 7 => 0xB42F2322#32
  | 8 => 0x342AF7D2#32
  | 9 => 0xB426FEBD#32
  | 10 => 0x342334FF#32
  | 11 => 0xB41F97EA#32
  | 12 => 0x341C2500#32
  | 13 => 0xB418D9F0#32
  | 14 => 0x3415B495#32
  | 15 => 0xB412B2ED#32
  | 16 => 0x340FD31A#32
  | 17 => 0xB40D1360#32
  | 18 => 0x340A721F#32
  | 19 => 0xB407EDD1#32
  | 20 => 0x3405850C#32
  | 21 => 0xB403367C#32
  | 22 => 0x340100E3#32
  | 23 => 0xB3FDC62E#32
  | 24 => 0x33F9B800#32
  | 25 => 0xB3F5D532#32
  | 26 => 0x33F21BD6#32
  | 27 => 0xB3EE8A1F#32
  | 28 => 0x33EB1E5A#32
  | 29 => 0xB3E7D6EF#32
  | 30 => 0x33E4B25D#32
  | 31 => 0xB3E1AF3D#32
  | 32 => 0x33DECC38#32
  | 33 => 0xB3DC0810#32
  | 34 => 0x33D96196#32
  | 35 => 0xB3D6D7AE#32
  | 36 => 0x33D4694B#32
  | 37 => 0xB3D21572#32
  | 38 => 0x33CFDB34#32
  | 39 => 0xB3CDB9B1#32
  | 40 => 0x33CBB015#32
  | 41 => 0xB3C9BD97#32
  | 42 => 0x33C7E17D#32
  | 43 => 0xB3C61B15#32
  | 44 => 0x33C469B8#32
  | 45 => 0xB3C2CCC7#32
  | 46 => 0x33C143B0#32
  | 47 => 0xB3BFCDE6#32
  | 48 => 0x33BE6AE7#32
  | 49 => 0xB3BD1A36#32
  | 50 => 0x33BBDB61#32
  | 51 => 0xB3BAADFB#32
  | 52 => 0x33B9919E#32
  | 53 => 0xB3B885EC#32
  | 54 => 0x33B78A8A#32
  | 55 => 0xB3B69F28#32
  | 56 => 0x33B5C377#32
  | 57 => 0xB3B4F732#32
  | 58 => 0x33B43A15#32
  | 59 => 0xB3B38BE5#32
  | 60 => 0x33B2EC6A#32
  | 61 => 0xB3B25B72#32
  | 62 => 0x33B1D8CF#32
  | 63 => 0xB3B16459#32
  | 64 => 0x33B0FDEA#32
  | 65 => 0xB3B0A563#32
  | 66 => 0x33B05AA9#32
  | 67 => 0xB3B01DA5#32
  | 68 => 0x33AFEE43#32
  | 69 => 0xB3AFCC75#32
  | 70 => 0x33AFB831#32
  | 71 => 0xB3AFB170#32
  | 72 => 0x33AFB831#32
  | 73 => 0xB3AFCC75#32
  | 74 => 0x33AFEE43#32
  | 75 => 0xB3B01DA5#32
  | 76 => 0x33B05AA9#32
  | 77 => 0xB3B0A563#32
  | 78 => 0x33B0FDEA#32
  | 79 => 0xB3B16459#32
  | 80 => 0x33B1D8CF#32
  | 81 => 0xB3B25B72#32
  | 82 => 0x33B2EC6A#32
  | 83 => 0xB3B38BE5#32
  | 84 => 0x33B43A15#32
  | 85 => 0xB3B4F732#32
  | 86 => 0x33B5C377#32
  | 87 => 0xB3B69F28#32
  | 88 => 0x33B78A8A#32
  | 89 => 0xB3B885EC#32
  | 90 => 0x33B9919E#32
  | 91 => 0xB3BAADFB#32
  | 92 => 0x33BBDB61#32
  | 93 => 0xB3BD1A36#32
  | 94 => 0x33BE6AE7#32
  | 95 => 0xB3BFCDE6#32
  | 96 => 0x33C143B0#32
  | 97 => 0xB3C2CCC7#32
  | 98 => 0x33C469B8#32
  | 99 => 0xB3C61B15#32
  | 100 => 0x33C7E17D#32
  | 101 => 0xB3C9BD97#32
  | 102 => 0x33CBB015#32
  | 103 => 0xB3CDB9B1#32
  | 104 => 0x33CFDB34#32
  | 105 => 0xB3D21572#32
  | 106 => 0x33D4694B#32
  | 107 => 0xB3D6D7AE#32
  | 108 => 0x33D96196#32
  | 109 => 0xB3DC0810#32
  | 110 => 0x33DECC38#32
  | 111 => 0xB3E1AF3D#32
  | 112 => 0x33E4B25D#32
  | 113 => 0xB3E7D6EF#32
  | 114 => 0x33EB1E5A#32
  | 115 => 0xB3EE8A1F#32
  | 116 => 0x33F21BD6#32
  | 117 => 0xB3F5D532#32
  | 118 => 0x33F9B800#32
  | 119 => 0xB3FDC62E#32
  | 120 => 0x340100E3#32
  | 121 => 0xB403367C#32
  | 122 => 0x3405850C#32
  | 123 => 0xB407EDD1#32
  | 124 => 0x340A721F#32
  | 125 => 0xB40D1360#32
  | 126 => 0x340FD31A#32
  | 127 => 0xB412B2ED#32
  | _ => 0#32

noncomputable abbrev lit0t0_399 (i : Nat) : BitVec 32 := match i % 128 with
  | 0 => 0x3415B495#32
  | 1 => 0xB418D9F0#32
  | 2 => 0x341C2500#32
  | 3 => 0xB41F97EA#32
  | 4 => 0x342334FF#32
  | 5 => 0xB426FEBD#32
  | 6 => 0x342AF7D2#32
  | 7 => 0xB42F2322#32
  | 8 => 0x343383CC#32
  | 9 => 0xB4381D32#32
  | 10 => 0x343CF2FA#32
  | 11 => 0xB4420919#32
  | 12 => 0x344763DA#32
  | 13 => 0xB44D07E6#32
  | 14 => 0x3452FA51#32
  | 15 => 0xB45940A1#32
  | 16 => 0x345FE0DA#32
  | 17 => 0xB466E193#32
  | 18 => 0x346E49FF#32
  | 19 => 0xB4762200#32
  | 20 => 0x347E723F#32
  | 21 => 0xB483A221#32
  | 22 => 0x34885143#32
  | 23 => 0xB48D4C4D#32
  | 24 => 0x349299A5#32
  | 25 => 0xB4984061#32
  | 26 => 0x349E485F#32
  | 27 => 0xB4A4BA5F#32
  | 28 => 0x34ABA023#32
  | 29 => 0xB4B30492#32
  | 30 => 0x34BAF3E5#32
  | 31 => 0xB4C37BD6#32
  | 32 => 0x34CCABDA#32
  | 33 => 0xB4D69568#32
  | 34 => 0x34E14C49#32
  | 35 => 0xB4ECE6F7#32
  | 36 => 0x34F97F13#32
  | 37 => 0xB50398F7#32
  | 38 => 0x350B1097#32
  | 39 => 0xB51339CD#32
  | 40 => 0x351C2B08#32
  | 41 => 0xB525FE56#32
  | 42 => 0x3530D21D#32
  | 43 => 0xB53CCA00#32
  | 44 => 0x354A0FF9#32
  | 45 => 0xB558D5BB#32
  | 46 => 0x35695670#32
  | 47 => 0xB57BD8F1#32
  | 48 => 0x3588594C#32
  | 49 => 0xB5942572#32
  | 50 => 0x35A19018#32
  | 51 => 0xB5B0E6EF#32
  | 52 => 0x35C28A3B#32
  | 53 => 0xB5D6F23A#32
  | 54 => 0x35EEB658#32
  | 55 => 0xB6054B76#32
  | 56 => 0x3615C529#32
  | 57 => 0xB6296767#32
  | 58 => 0x3641014B#32
  | 59 => 0xB65DA20C#32
  | 60 => 0x368056F2#32
  | 61 => 0xB695FBC4#32
  | 62 => 0x36B0ED61#32
  | 63 => 0xB6D29E9B#32
  | 64 => 0x36FFBDB2#32
  | 65 => 0xB692EE32#32
  | 66 => 0x391EBB1A#32
  | 67 => 0x3B12D0DF#32
  | 68 => 0x3CA0086D#32
  | 69 => 0x3DBAD58B#32
  | 70 => 0x3E6BB748#32
  | 71 => 0x3EA069FE#32
  | 72 => 0x3E6BB748#32
  | 73 => 0x3DBAD58B#32
  | 74 => 0x3CA0086D#32
  | 75 => 0x3B12D0DF#32
  | 76 => 0x391EBB1A#32
  | 77 => 0xB692EE32#32
  | 78 => 0x36FFBDB2#32
  | 79 => 0xB6D29E9B#32
  | 80 => 0x36B0ED61#32
  | 81 => 0xB695FBC4#32
  | 82 => 0x368056F2#32
  | 83 => 0xB65DA20C#32
  | 84 => 0x3641014B#32
  | 85 => 0xB6296767#32
  | 86 => 0x3615C529#32
  | 87 => 0xB6054B76#32
  | 88 => 0x35EEB658#32
  | 89 => 0xB5D6F23A#32
  | 90 => 0x35C28A3B#32
  | 91 => 0xB5B0E6EF#32
  | 92 => 0x35A19018#32
  | 93 => 0xB5942572#32
  | 94 => 0x3588594C#32
  | 95 => 0xB57BD8F1#32
  | 96 => 0x35695670#32
  | 97 => 0xB558D5BB#32
  | 98 => 0x354A0FF9#32
  | 99 => 0xB53CCA00#32
  | 100 => 0x3530D21D#32
  | 101 => 0xB525FE56#32
  | 102 => 0x351C2B08#32
  | 103 => 0xB51339CD#32
  | 104 => 0x350B1097#32
  | 105 => 0xB50398F7#32
  | 106 => 0x34F97F13#32
  | 107 => 0xB4ECE6F7#32
  | 108 => 0x34E14C49#32
  | 109 => 0xB4D69568#32
  | 110 => 0x34CCABDA#32
  | 111 => 0xB4C37BD6#32
  | 112 => 0x34BAF3E5#32
  | 113 => 0xB4B30492#32
  | 114 => 0x34ABA023#32
  | 115 => 0xB4A4BA5F#32
  | 116 => 0x349E485F#32
  | 117 => 0xB4984061#32
  | 118 => 0x349299A5#32
  | 119 => 0xB48D4C4D#32
  | 120 => 0x34885143#32
  | 121 => 0xB483A221#32
  | 122 => 0x347E723F#32
  | 123 => 0xB4762200#32
  | 124 => 0x346E49FF#32
  | 125 => 0xB466E193#32
  | 126 => 0x345FE0DA#32
  | 127 => 0xB45940A1#32
  | _ => 0#32

noncomputable abbrev lit0t0_400 (i : Nat) : BitVec 32 := match i % 128 with
  | 0 => 0xB45940A1#32
  | 1 => 0x3452FA51#32
  | 2 => 0xB44D07E6#32
  | 3 => 0x344763DA#32
  | 4 => 0xB4420919#32
  | 5 => 0x343CF2FA#32
  | 6 => 0xB4381D32#32
  | 7 => 0x343383CC#32
  | 8 => 0xB42F2322#32
  | 9 => 0x342AF7D2#32
  | 10 => 0xB426FEBD#32
  | 11 => 0x342334FF#32
  | 12 => 0xB41F97EA#32
  | 13 => 0x341C2500#32
  | 14 => 0xB418D9F0#32
  | 15 => 0x3415B495#32
  | 16 => 0xB412B2ED#32
  | 17 => 0x340FD31A#32
  | 18 => 0xB40D1360#32
  | 19 => 0x340A721F#32
  | 20 => 0xB407EDD1#32
  | 21 => 0x3405850C#32
  | 22 => 0xB403367C#32
  | 23 => 0x340100E3#32
  | 24 => 0xB3FDC62E#32
  | 25 => 0x33F9B800#32
  | 26 => 0xB3F5D532#32
  | 27 => 0x33F21BD6#32
  | 28 => 0xB3EE8A1F#32
  | 29 => 0x33EB1E5A#32
  | 30 => 0xB3E7D6EF#32
  | 31 => 0x33E4B25D#32
  | 32 => 0xB3E1AF3D#32
  | 33 => 0x33DECC38#32
  | 34 => 0xB3DC0810#32
  | 35 => 0x33D96196#32
  | 36 => 0xB3D6D7AE#32
  | 37 => 0x33D4694B#32
  | 38 => 0xB3D21572#32
  | 39 => 0x33CFDB34#32
  | 40 => 0xB3CDB9B1#32
  | 41 => 0x33CBB015#32
  | 42 => 0xB3C9BD97#32
  | 43 => 0x33C7E17D#32
  | 44 => 0xB3C61B15#32
  | 45 => 0x33C469B8#32
  | 46 => 0xB3C2CCC7#32
  | 47 => 0x33C143B0#32
  | 48 => 0xB3BFCDE6#32
  | 49 => 0x33BE6AE7#32
  | 50 => 0xB3BD1A36#32
  | 51 => 0x33BBDB61#32
  | 52 => 0xB3BAADFB#32
  | 53 => 0x33B9919E#32
  | 54 => 0xB3B885EC#32
  | 55 => 0x33B78A8A#32
  | 56 => 0xB3B69F28#32
  | 57 => 0x33B5C377#32
  | 58 => 0xB3B4F732#32
  | 59 => 0x33B43A15#32
  | 60 => 0xB3B38BE5#32
  | 61 => 0x33B2EC6A#32
  | 62 => 0xB3B25B72#32
  | 63 => 0x33B1D8CF#32
  | 64 => 0xB3B16459#32
  | 65 => 0x33B0FDEA#32
  | 66 => 0xB3B0A563#32
  | 67 => 0x33B05AA9#32
  | 68 => 0xB3B01DA5#32
  | 69 => 0x33AFEE43#32
  | 70 => 0xB3AFCC75#32
  | 71 => 0x33AFB831#32
  | 72 => 0xB3AFB170#32
  | 73 => 0x33AFB831#32
  | 74 => 0xB3AFCC75#32
  | 75 => 0x33AFEE43#32
  | 76 => 0xB3B01DA5#32
  | 77 => 0x33B05AA9#32
  | 78 => 0xB3B0A563#32
  | 79 => 0x33B0FDEA#32
  | 80 => 0xB3B16459#32
  | 81 => 0x33B1D8CF#32
  | 82 => 0xB3B25B72#32
  | 83 => 0x33B2EC6A#32
  | 84 => 0xB3B38BE5#32
  | 85 => 0x33B43A15#32
  | 86 => 0xB3B4F732#32
  | 87 => 0x33B5C377#32
  | 88 => 0xB3B69F28#32
  | 89 => 0x33B78A8A#32
  | 90 => 0xB3B885EC#32
  | 91 => 0x33B9919E#32
  | 92 => 0xB3BAADFB#32
  | 93 => 0x33BBDB61#32
  | 94 => 0xB3BD1A36#32
  | 95 => 0x33BE6AE7#32
  | 96 => 0xB3BFCDE6#32
  | 97 => 0x33C143B0#32
  | 98 => 0xB3C2CCC7#32
  | 99 => 0x33C469B8#32
  | 100 => 0xB3C61B15#32
  | 101 => 0x33C7E17D#32
  | 102 => 0xB3C9BD97#32
  | 103 => 0x33CBB015#32
  | 104 => 0xB3CDB9B1#32
  | 105 => 0x33CFDB34#32
  | 106 => 0xB3D21572#32
  | 107 => 0x33D4694B#32
  | 108 => 0xB3D6D7AE#32
  | 109 => 0x33D96196#32
  | 110 => 0xB3DC0810#32
  | 111 => 0x33DECC38#32
  | 112 => 0xB3E1AF3D#32
  | 113 => 0x33E4B25D#32
  | 114 => 0xB3E7D6EF#32
  | 115 => 0x33EB1E5A#32
  | 116 => 0xB3EE8A1F#32
  | 117 => 0x33F21BD6#32
  | 118 => 0xB3F5D532#32
  | 119 => 0x33F9B800#32
  | 120 => 0xB3FDC62E#32
  | 121 => 0x340100E3#32
  | 122 => 0xB403367C#32
  | 123 => 0x3405850C#32
  | 124 => 0xB407EDD1#32
  | 125 => 0x340A721F#32
  | 126 => 0xB40D1360#32
  | 127 => 0x340FD31A#32
  | _ => 0#32

noncomputable abbrev lit0t0_401 (i : Nat) : BitVec 32 := match i % 128 with
  | 0 => 0xB412B2ED#32
  | 1 => 0x3415B495#32
  | 2 => 0xB418D9F0#32
  | 3 => 0x341C2500#32
  | 4 => 0xB41F97EA#32
  | 5 => 0x342334FF#32
  | 6 => 0xB426FEBD#32
  | 7 => 0x342AF7D2#32
  | 8 => 0xB42F2322#32
  | 9 => 0x343383CC#32
  | 10 => 0xB4381D32#32
  | 11 => 0x343CF2FA#32
  | 12 => 0xB4420919#32
  | 13 => 0x344763DA#32
  | 14 => 0xB44D07E6#32
  | 15 => 0x3452FA51#32
  | 16 => 0xB45940A1#32
  | 17 => 0x345FE0DA#32
  | 18 => 0xB466E193#32
  | 19 => 0x346E49FF#32
  | 20 => 0xB4762200#32
  | 21 => 0x347E723F#32
  | 22 => 0xB483A221#32
  | 23 => 0x34885143#32
  | 24 => 0xB48D4C4D#32
  | 25 => 0x349299A5#32
  | 26 => 0xB4984061#32
  | 27 => 0x349E485F#32
  | 28 => 0xB4A4BA5F#32
  | 29 => 0x34ABA023#32
  | 30 => 0xB4B30492#32
  | 31 => 0x34BAF3E5#32
  | 32 => 0xB4C37BD6#32
  | 33 => 0x34CCABDA#32
  | 34 => 0xB4D69568#32
  | 35 => 0x34E14C49#32
  | 36 => 0xB4ECE6F7#32
  | 37 => 0x34F97F13#32
  | 38 => 0xB50398F7#32
  | 39 => 0x350B1097#32
  | 40 => 0xB51339CD#32
  | 41 => 0x351C2B08#32
  | 42 => 0xB525FE56#32
  | 43 => 0x3530D21D#32
  | 44 => 0xB53CCA00#32
  | 45 => 0x354A0FF9#32
  | 46 => 0xB558D5BB#32
  | 47 => 0x35695670#32
  | 48 => 0xB57BD8F1#32
  | 49 => 0x3588594C#32
  | 50 => 0xB5942572#32
  | 51 => 0x35A19018#32
  | 52 => 0xB5B0E6EF#32
  | 53 => 0x35C28A3B#32
  | 54 => 0xB5D6F23A#32
  | 55 => 0x35EEB658#32
  | 56 => 0xB6054B76#32
  | 57 => 0x3615C529#32
  | 58 => 0xB6296767#32
  | 59 => 0x3641014B#32
  | 60 => 0xB65DA20C#32
  | 61 => 0x368056F2#32
  | 62 => 0xB695FBC4#32
  | 63 => 0x36B0ED61#32
  | 64 => 0xB6D29E9B#32
  | 65 => 0x36FFBDB2#32
  | 66 => 0xB692EE32#32
  | 67 => 0x391EBB1A#32
  | 68 => 0x3B12D0DF#32
  | 69 => 0x3CA0086D#32
  | 70 => 0x3DBAD58B#32
  | 71 => 0x3E6BB748#32
  | 72 => 0x3EA069FE#32
  | 73 => 0x3E6BB748#32
  | 74 => 0x3DBAD58B#32
  | 75 => 0x3CA0086D#32
  | 76 => 0x3B12D0DF#32
  | 77 => 0x391EBB1A#32
  | 78 => 0xB692EE32#32
  | 79 => 0x36FFBDB2#32
  | 80 => 0xB6D29E9B#32
  | 81 => 0x36B0ED61#32
  | 82 => 0xB695FBC4#32
  | 83 => 0x368056F2#32
  | 84 => 0xB65DA20C#32
  | 85 => 0x3641014B#32
  | 86 => 0xB6296767#32
  | 87 => 0x3615C529#32
  | 88 => 0xB6054B76#32
  | 89 => 0x35EEB658#32
  | 90 => 0xB5D6F23A#32
  | 91 => 0x35C28A3B#32
  | 92 => 0xB5B0E6EF#32
  | 93 => 0x35A19018#32
  | 94 => 0xB5942572#32
  | 95 => 0x3588594C#32
  | 96 => 0xB57BD8F1#32
  | 97 => 0x35695670#32
  | 98 => 0xB558D5BB#32
  | 99 => 0x354A0FF9#32
  | 100 => 0xB53CCA00#32
  | 101 => 0x3530D21D#32
  | 102 => 0xB525FE56#32
  | 103 => 0x351C2B08#32
  | 104 => 0xB51339CD#32
  | 105 => 0x350B1097#32
  | 106 => 0xB50398F7#32
  | 107 => 0x34F97F13#32
  | 108 => 0xB4ECE6F7#32
  | 109 => 0x34E14C49#32
  | 110 => 0xB4D69568#32
  | 111 => 0x34CCABDA#32
  | 112 => 0xB4C37BD6#32
  | 113 => 0x34BAF3E5#32
  | 114 => 0xB4B30492#32
  | 115 => 0x34ABA023#32
  | 116 => 0xB4A4BA5F#32
  | 117 => 0x349E485F#32
  | 118 => 0xB4984061#32
  | 119 => 0x349299A5#32
  | 120 => 0xB48D4C4D#32
  | 121 => 0x34885143#32
  | 122 => 0xB483A221#32
  | 123 => 0x347E723F#32
  | 124 => 0xB4762200#32
  | 125 => 0x346E49FF#32
  | 126 => 0xB466E193#32
  | 127 => 0x345FE0DA#32
  | _ => 0#32

noncomputable abbrev lit0t0_402 (i : Nat) : BitVec 32 := match i % 128 with
  | 0 => 0x345FE0DA#32
  | 1 => 0xB45940A1#32
  | 2 => 0x3452FA51#32
  | 3 => 0xB44D07E6#32
  | 4 => 0x344763DA#32
  | 5 => 0xB4420919#32
  | 6 => 0x343CF2FA#32
  | 7 => 0xB4381D32#32
  | 8 => 0x343383CC#32
  | 9 => 0xB42F2322#32
  | 10 => 0x342AF7D2#32
  | 11 => 0xB426FEBD#32
  | 12 => 0x342334FF#32
  | 13 => 0xB41F97EA#32
  | 14 => 0x341C2500#32
  | 15 => 0xB418D9F0#32
  | 16 => 0x3415B495#32
  | 17 => 0xB412B2ED#32
  | 18 => 0x340FD31A#32
  | 19 => 0xB40D1360#32
  | 20 => 0x340A721F#32
  | 21 => 0xB407EDD1#32
  | 22 => 0x3405850C#32
  | 23 => 0xB403367C#32
  | 24 => 0x340100E3#32
  | 25 => 0xB3FDC62E#32
  | 26 => 0x33F9B800#32
  | 27 => 0xB3F5D532#32
  | 28 => 0x33F21BD6#32
  | 29 => 0xB3EE8A1F#32
  | 30 => 0x33EB1E5A#32
  | 31 => 0xB3E7D6EF#32
  | 32 => 0x33E4B25D#32
  | 33 => 0xB3E1AF3D#32
  | 34 => 0x33DECC38#32
  | 35 => 0xB3DC0810#32
  | 36 => 0x33D96196#32
  | 37 => 0xB3D6D7AE#32
  | 38 => 0x33D4694B#32
  | 39 => 0xB3D21572#32
  | 40 => 0x33CFDB34#32
  | 41 => 0xB3CDB9B1#32
  | 42 => 0x33CBB015#32
  | 43 => 0xB3C9BD97#32
  | 44 => 0x33C7E17D#32
  | 45 => 0xB3C61B15#32
  | 46 => 0x33C469B8#32
  | 47 => 0xB3C2CCC7#32
  | 48 => 0x33C143B0#32
  | 49 => 0xB3BFCDE6#32
  | 50 => 0x33BE6AE7#32
  | 51 => 0xB3BD1A36#32
  | 52 => 0x33BBDB61#32
  | 53 => 0xB3BAADFB#32
  | 54 => 0x33B9919E#32
  | 55 => 0xB3B885EC#32
  | 56 => 0x33B78A8A#32
  | 57 => 0xB3B69F28#32
  | 58 => 0x33B5C377#32
  | 59 => 0xB3B4F732#32
  | 60 => 0x33B43A15#32
  | 61 => 0xB3B38BE5#32
  | 62 => 0x33B2EC6A#32
  | 63 => 0xB3B25B72#32
  | 64 => 0x33B1D8CF#32
  | 65 => 0xB3B16459#32
  | 66 => 0x33B0FDEA#32
  | 67 => 0xB3B0A563#32
  | 68 => 0x33B05AA9#32
  | 69 => 0xB3B01DA5#32
  | 70 => 0x33AFEE43#32
  | 71 => 0xB3AFCC75#32
  | 72 => 0x33AFB831#32
  | 73 => 0xB3AFB170#32
  | 74 => 0x33AFB831#32
  | 75 => 0xB3AFCC75#32
  | 76 => 0x33AFEE43#32
  | 77 => 0xB3B01DA5#32
  | 78 => 0x33B05AA9#32
  | 79 => 0xB3B0A563#32
  | 80 => 0x33B0FDEA#32
  | 81 => 0xB3B16459#32
  | 82 => 0x33B1D8CF#32
  | 83 => 0xB3B25B72#32
  | 84 => 0x33B2EC6A#32
  | 85 => 0xB3B38BE5#32
  | 86 => 0x33B43A15#32
  | 87 => 0xB3B4F732#32
  | 88 => 0x33B5C377#32
  | 89 => 0xB3B69F28#32
  | 90 => 0x33B78A8A#32
  | 91 => 0xB3B885EC#32
  | 92 => 0x33B9919E#32
  | 93 => 0xB3BAADFB#32
  | 94 => 0x33BBDB61#32
  | 95 => 0xB3BD1A36#32
  | 96 => 0x33BE6AE7#32
  | 97 => 0xB3BFCDE6#32
  | 98 => 0x33C143B0#32
  | 99 => 0xB3C2CCC7#32
  | 100 => 0x33C469B8#32
  | 101 => 0xB3C61B15#32
  | 102 => 0x33C7E17D#32
  | 103 => 0xB3C9BD97#32
  | 104 => 0x33CBB015#32
  | 105 => 0xB3CDB9B1#32
  | 106 => 0x33CFDB34#32
  | 107 => 0xB3D21572#32
  | 108 => 0x33D4694B#32
  | 109 => 0xB3D6D7AE#32
  | 110 => 0x33D96196#32
  | 111 => 0xB3DC0810#32
  | 112 => 0x33DECC38#32
  | 113 => 0xB3E1AF3D#32
  | 114 => 0x33E4B25D#32
  | 115 => 0xB3E7D6EF#32
  | 116 => 0x33EB1E5A#32
  | 117 => 0xB3EE8A1F#32
  | 118 => 0x33F21BD6#32
  | 119 => 0xB3F5D532#32
  | 120 => 0x33F9B800#32
  | 121 => 0xB3FDC62E#32
  | 122 => 0x340100E3#32
  | 123 => 0xB403367C#32
  | 124 => 0x3405850C#32
  | 125 => 0xB407EDD1#32
  | 126 => 0x340A721F#32
  | 127 => 0xB40D1360#32
  | _ => 0#32

noncomputable abbrev lit0t0_403 (i : Nat) : BitVec 32 := match i % 128 with
  | 0 => 0x340FD31A#32
  | 1 => 0xB412B2ED#32
  | 2 => 0x3415B495#32
  | 3 => 0xB418D9F0#32
  | 4 => 0x341C2500#32
  | 5 => 0xB41F97EA#32
  | 6 => 0x342334FF#32
  | 7 => 0xB426FEBD#32
  | 8 => 0x342AF7D2#32
  | 9 => 0xB42F2322#32
  | 10 => 0x343383CC#32
  | 11 => 0xB4381D32#32
  | 12 => 0x343CF2FA#32
  | 13 => 0xB4420919#32
  | 14 => 0x344763DA#32
  | 15 => 0xB44D07E6#32
  | 16 => 0x3452FA51#32
  | 17 => 0xB45940A1#32
  | 18 => 0x345FE0DA#32
  | 19 => 0xB466E193#32
  | 20 => 0x346E49FF#32
  | 21 => 0xB4762200#32
  | 22 => 0x347E723F#32
  | 23 => 0xB483A221#32
  | 24 => 0x34885143#32
  | 25 => 0xB48D4C4D#32
  | 26 => 0x349299A5#32
  | 27 => 0xB4984061#32
  | 28 => 0x349E485F#32
  | 29 => 0xB4A4BA5F#32
  | 30 => 0x34ABA023#32
  | 31 => 0xB4B30492#32
  | 32 => 0x34BAF3E5#32
  | 33 => 0xB4C37BD6#32
  | 34 => 0x34CCABDA#32
  | 35 => 0xB4D69568#32
  | 36 => 0x34E14C49#32
  | 37 => 0xB4ECE6F7#32
  | 38 => 0x34F97F13#32
  | 39 => 0xB50398F7#32
  | 40 => 0x350B1097#32
  | 41 => 0xB51339CD#32
  | 42 => 0x351C2B08#32
  | 43 => 0xB525FE56#32
  | 44 => 0x3530D21D#32
  | 45 => 0xB53CCA00#32
  | 46 => 0x354A0FF9#32
  | 47 => 0xB558D5BB#32
  | 48 => 0x35695670#32
  | 49 => 0xB57BD8F1#32
  | 50 => 0x3588594C#32
  | 51 => 0xB5942572#32
  | 52 => 0x35A19018#32
  | 53 => 0xB5B0E6EF#32
  | 54 => 0x35C28A3B#32
  | 55 => 0xB5D6F23A#32
  | 56 => 0x35EEB658#32
  | 57 => 0xB6054B76#32
  | 58 => 0x3615C529#32
  | 59 => 0xB6296767#32
  | 60 => 0x3641014B#32
  | 61 => 0xB65DA20C#32
  | 62 => 0x368056F2#32
  | 63 => 0xB695FBC4#32
  | 64 => 0x36B0ED61#32
  | 65 => 0xB6D29E9B#32
  | 66 => 0x36FFBDB2#32
  | 67 => 0xB692EE32#32
  | 68 => 0x391EBB1A#32
  | 69 => 0x3B12D0DF#32
  | 70 => 0x3CA0086D#32
  | 71 => 0x3DBAD58B#32
  | 72 => 0x3E6BB748#32
  | 73 => 0x3EA069FE#32
  | 74 => 0x3E6BB748#32
  | 75 => 0x3DBAD58B#32
  | 76 => 0x3CA0086D#32
  | 77 => 0x3B12D0DF#32
  | 78 => 0x391EBB1A#32
  | 79 => 0xB692EE32#32
  | 80 => 0x36FFBDB2#32
  | 81 => 0xB6D29E9B#32
  | 82 => 0x36B0ED61#32
  | 83 => 0xB695FBC4#32
  | 84 => 0x368056F2#32
  | 85 => 0xB65DA20C#32
  | 86 => 0x3641014B#32
  | 87 => 0xB6296767#32
  | 88 => 0x3615C529#32
  | 89 => 0xB6054B76#32
  | 90 => 0x35EEB658#32
  | 91 => 0xB5D6F23A#32
  | 92 => 0x35C28A3B#32
  | 93 => 0xB5B0E6EF#32
  | 94 => 0x35A19018#32
  | 95 => 0xB5942572#32
  | 96 => 0x3588594C#32
  | 97 => 0xB57BD8F1#32
  | 98 => 0x35695670#32
  | 99 => 0xB558D5BB#32
  | 100 => 0x354A0FF9#32
  | 101 => 0xB53CCA00#32
  | 102 => 0x3530D21D#32
  | 103 => 0xB525FE56#32
  | 104 => 0x351C2B08#32
  | 105 => 0xB51339CD#32
  | 106 => 0x350B1097#32
  | 107 => 0xB50398F7#32
  | 108 => 0x34F97F13#32
  | 109 => 0xB4ECE6F7#32
  | 110 => 0x34E14C49#32
  | 111 => 0xB4D69568#32
  | 112 => 0x34CCABDA#32
  | 113 => 0xB4C37BD6#32
  | 114 => 0x34BAF3E5#32
  | 115 => 0xB4B30492#32
  | 116 => 0x34ABA023#32
  | 117 => 0xB4A4BA5F#32
  | 118 => 0x349E485F#32
  | 119 => 0xB4984061#32
  | 120 => 0x349299A5#32
  | 121 => 0xB48D4C4D#32
  | 122 => 0x34885143#32
  | 123 => 0xB483A221#32
  | 124 => 0x347E723F#32
  | 125 => 0xB4762200#32
  | 126 => 0x346E49FF#32
  | 127 => 0xB466E193#32
  | _ => 0#32

noncomputable abbrev lit0t0_404 (i : Nat) : BitVec 32 := match i % 128 with
  | 0 => 0xB466E193#32
  | 1 => 0x345FE0DA#32
  | 2 => 0xB45940A1#32
  | 3 => 0x3452FA51#32
  | 4 => 0xB44D07E6#32
  | 5 => 0x344763DA#32
  | 6 => 0xB4420919#32
  | 7 => 0x343CF2FA#32
  | 8 => 0xB4381D32#32
  | 9 => 0x343383CC#32
  | 10 => 0xB42F2322#32
  | 11 => 0x342AF7D2#32
  | 12 => 0xB426FEBD#32
  | 13 => 0x342334FF#32
  | 14 => 0xB41F97EA#32
  | 15 => 0x341C2500#32
  | 16 => 0xB418D9F0#32
  | 17 => 0x3415B495#32
  | 18 => 0xB412B2ED#32
  | 19 => 0x340FD31A#32
  | 20 => 0xB40D1360#32
  | 21 => 0x340A721F#32
  | 22 => 0xB407EDD1#32
  | 23 => 0x3405850C#32
  | 24 => 0xB403367C#32
  | 25 => 0x340100E3#32
  | 26 => 0xB3FDC62E#32
  | 27 => 0x33F9B800#32
  | 28 => 0xB3F5D532#32
  | 29 => 0x33F21BD6#32
  | 30 => 0xB3EE8A1F#32
  | 31 => 0x33EB1E5A#32
  | 32 => 0xB3E7D6EF#32
  | 33 => 0x33E4B25D#32
  | 34 => 0xB3E1AF3D#32
  | 35 => 0x33DECC38#32
  | 36 => 0xB3DC0810#32
  | 37 => 0x33D96196#32
  | 38 => 0xB3D6D7AE#32
  | 39 => 0x33D4694B#32
  | 40 => 0xB3D21572#32
  | 41 => 0x33CFDB34#32
  | 42 => 0xB3CDB9B1#32
  | 43 => 0x33CBB015#32
  | 44 => 0xB3C9BD97#32
  | 45 => 0x33C7E17D#32
  | 46 => 0xB3C61B15#32
  | 47 => 0x33C469B8#32
  | 48 => 0xB3C2CCC7#32
  | 49 => 0x33C143B0#32
  | 50 => 0xB3BFCDE6#32
  | 51 => 0x33BE6AE7#32
  | 52 => 0xB3BD1A36#32
  | 53 => 0x33BBDB61#32
  | 54 => 0xB3BAADFB#32
  | 55 => 0x33B9919E#32
  | 56 => 0xB3B885EC#32
  | 57 => 0x33B78A8A#32
  | 58 => 0xB3B69F28#32
  | 59 => 0x33B5C377#32
  | 60 => 0xB3B4F732#32
  | 61 => 0x33B43A15#32
  | 62 => 0xB3B38BE5#32
  | 63 => 0x33B2EC6A#32
  | 64 => 0xB3B25B72#32
  | 65 => 0x33B1D8CF#32
  | 66 => 0xB3B16459#32
  | 67 => 0x33B0FDEA#32
  | 68 => 0xB3B0A563#32
  | 69 => 0x33B05AA9#32
  | 70 => 0xB3B01DA5#32
  | 71 => 0x33AFEE43#32
  | 72 => 0xB3AFCC75#32
  | 73 => 0x33AFB831#32
  | 74 => 0xB3AFB170#32
  | 75 => 0x33AFB831#32
  | 76 => 0xB3AFCC75#32
  | 77 => 0x33AFEE43#32
  | 78 => 0xB3B01DA5#32
  | 79 => 0x33B05AA9#32
  | 80 => 0xB3B0A563#32
  | 81 => 0x33B0FDEA#32
  | 82 => 0xB3B16459#32
  | 83 => 0x33B1D8CF#32
  | 84 => 0xB3B25B72#32
  | 85 => 0x33B2EC6A#32
  | 86 => 0xB3B38BE5#32
  | 87 => 0x33B43A15#32
  | 88 => 0xB3B4F732#32
  | 89 => 0x33B5C377#32
  | 90 => 0xB3B69F28#32
  | 91 => 0x33B78A8A#32
  | 92 => 0xB3B885EC#32
  | 93 => 0x33B9919E#32
  | 94 => 0xB3BAADFB#32
  | 95 => 0x33BBDB61#32
  | 96 => 0xB3BD1A36#32
  | 97 => 0x33BE6AE7#32
  | 98 => 0xB3BFCDE6#32
  | 99 => 0x33C143B0#32
  | 100 => 0xB3C2CCC7#32
  | 101 => 0x33C469B8#32
  | 102 => 0xB3C61B15#32
  | 103 => 0x33C7E17D#32
  | 104 => 0xB3C9BD97#32
  | 105 => 0x33CBB015#32
  | 106 => 0xB3CDB9B1#32
  | 107 => 0x33CFDB34#32
  | 108 => 0xB3D21572#32
  | 109 => 0x33D4694B#32
  | 110 => 0xB3D6D7AE#32
  | 111 => 0x33D96196#32
  | 112 => 0xB3DC0810#32
  | 113 => 0x33DECC38#32
  | 114 => 0xB3E1AF3D#32
  | 115 => 0x33E4B25D#32
  | 116 => 0xB3E7D6EF#32
  | 117 => 0x33EB1E5A#32
  | 118 => 0xB3EE8A1F#32
  | 119 => 0x33F21BD6#32
  | 120 => 0xB3F5D532#32
  | 121 => 0x33F9B800#32
  | 122 => 0xB3FDC62E#32
  | 123 => 0x340100E3#32
  | 124 => 0xB403367C#32
  | 125 => 0x3405850C#32
  | 126 => 0xB407EDD1#32
  | 127 => 0x340A721F#32
  | _ => 0#32

noncomputable abbrev lit0t0_405 (i : Nat) : BitVec 32 := match i % 128 with
  | 0 => 0xB40D1360#32
  | 1 => 0x340FD31A#32
  | 2 => 0xB412B2ED#32
  | 3 => 0x3415B495#32
  | 4 => 0xB418D9F0#32
  | 5 => 0x341C2500#32
  | 6 => 0xB41F97EA#32
  | 7 => 0x342334FF#32
  | 8 => 0xB426FEBD#32
  | 9 => 0x342AF7D2#32
  | 10 => 0xB42F2322#32
  | 11 => 0x343383CC#32
  | 12 => 0xB4381D32#32
  | 13 => 0x343CF2FA#32
  | 14 => 0xB4420919#32
  | 15 => 0x344763DA#32
  | 16 => 0xB44D07E6#32
  | 17 => 0x3452FA51#32
  | 18 => 0xB45940A1#32
  | 19 => 0x345FE0DA#32
  | 20 => 0xB466E193#32
  | 21 => 0x346E49FF#32
  | 22 => 0xB4762200#32
  | 23 => 0x347E723F#32
  | 24 => 0xB483A221#32
  | 25 => 0x34885143#32
  | 26 => 0xB48D4C4D#32
  | 27 => 0x349299A5#32
  | 28 => 0xB4984061#32
  | 29 => 0x349E485F#32
  | 30 => 0xB4A4BA5F#32
  | 31 => 0x34ABA023#32
  | 32 => 0xB4B30492#32
  | 33 => 0x34BAF3E5#32
  | 34 => 0xB4C37BD6#32
  | 35 => 0x34CCABDA#32
  | 36 => 0xB4D69568#32
  | 37 => 0x34E14C49#32
  | 38 => 0xB4ECE6F7#32
  | 39 => 0x34F97F13#32
  | 40 => 0xB50398F7#32
  | 41 => 0x350B1097#32
  | 42 => 0xB51339CD#32
  | 43 => 0x351C2B08#32
  | 44 => 0xB525FE56#32
  | 45 => 0x3530D21D#32
  | 46 => 0xB53CCA00#32
  | 47 => 0x354A0FF9#32
  | 48 => 0xB558D5BB#32
  | 49 => 0x35695670#32
  | 50 => 0xB57BD8F1#32
  | 51 => 0x3588594C#32
  | 52 => 0xB5942572#32
  | 53 => 0x35A19018#32
  | 54 => 0xB5B0E6EF#32
  | 55 => 0x35C28A3B#32
  | 56 => 0xB5D6F23A#32
  | 57 => 0x35EEB658#32
  | 58 => 0xB6054B76#32
  | 59 => 0x3615C529#32
  | 60 => 0xB6296767#32
  | 61 => 0x3641014B#32
  | 62 => 0xB65DA20C#32
  | 63 => 0x368056F2#32
  | 64 => 0xB695FBC4#32
  | 65 => 0x36B0ED61#32
  | 66 => 0xB6D29E9B#32
  | 67 => 0x36FFBDB2#32
  | 68 => 0xB692EE32#32
  | 69 => 0x391EBB1A#32
  | 70 => 0x3B12D0DF#32
  | 71 => 0x3CA0086D#32
  | 72 => 0x3DBAD58B#32
  | 73 => 0x3E6BB748#32
  | 74 => 0x3EA069FE#32
  | 75 => 0x3E6BB748#32
  | 76 => 0x3DBAD58B#32
  | 77 => 0x3CA0086D#32
  | 78 => 0x3B12D0DF#32
  | 79 => 0x391EBB1A#32
  | 80 => 0xB692EE32#32
  | 81 => 0x36FFBDB2#32
  | 82 => 0xB6D29E9B#32
  | 83 => 0x36B0ED61#32
  | 84 => 0xB695FBC4#32
  | 85 => 0x368056F2#32
  | 86 => 0xB65DA20C#32
  | 87 => 0x3641014B#32
  | 88 => 0xB6296767#32
  | 89 => 0x3615C529#32
  | 90 => 0xB6054B76#32
  | 91 => 0x35EEB658#32
  | 92 => 0xB5D6F23A#32
  | 93 => 0x35C28A3B#32
  | 94 => 0xB5B0E6EF#32
  | 95 => 0x35A19018#32
  | 96 => 0xB5942572#32
  | 97 => 0x3588594C#32
  | 98 => 0xB57BD8F1#32
  | 99 => 0x35695670#32
  | 100 => 0xB558D5BB#32
  | 101 => 0x354A0FF9#32
  | 102 => 0xB53CCA00#32
  | 103 => 0x3530D21D#32
  | 104 => 0xB525FE56#32
  | 105 => 0x351C2B08#32
  | 106 => 0xB51339CD#32
  | 107 => 0x350B1097#32
  | 108 => 0xB50398F7#32
  | 109 => 0x34F97F13#32
  | 110 => 0xB4ECE6F7#32
  | 111 => 0x34E14C49#32
  | 112 => 0xB4D69568#32
  | 113 => 0x34CCABDA#32
  | 114 => 0xB4C37BD6#32
  | 115 => 0x34BAF3E5#32
  | 116 => 0xB4B30492#32
  | 117 => 0x34ABA023#32
  | 118 => 0xB4A4BA5F#32
  | 119 => 0x349E485F#32
  | 120 => 0xB4984061#32
  | 121 => 0x349299A5#32
  | 122 => 0xB48D4C4D#32
  | 123 => 0x34885143#32
  | 124 => 0xB483A221#32
  | 125 => 0x347E723F#32
  | 126 => 0xB4762200#32
  | 127 => 0x346E49FF#32
  | _ => 0#32

noncomputable abbrev lit0t0_406 (i : Nat) : BitVec 32 := match i % 128 with
  | 0 => 0x346E49FF#32
  | 1 => 0xB466E193#32
  | 2 => 0x345FE0DA#32
  | 3 => 0xB45940A1#32
  | 4 => 0x3452FA51#32
  | 5 => 0xB44D07E6#32
  | 6 => 0x344763DA#32
  | 7 => 0xB4420919#32
  | 8 => 0x343CF2FA#32
  | 9 => 0xB4381D32#32
  | 10 => 0x343383CC#32
  | 11 => 0xB42F2322#32
  | 12 => 0x342AF7D2#32
  | 13 => 0xB426FEBD#32
  | 14 => 0x342334FF#32
  | 15 => 0xB41F97EA#32
  | 16 => 0x341C2500#32
  | 17 => 0xB418D9F0#32
  | 18 => 0x3415B495#32
  | 19 => 0xB412B2ED#32
  | 20 => 0x340FD31A#32
  | 21 => 0xB40D1360#32
  | 22 => 0x340A721F#32
  | 23 => 0xB407EDD1#32
  | 24 => 0x3405850C#32
  | 25 => 0xB403367C#32
  | 26 => 0x340100E3#32
  | 27 => 0xB3FDC62E#32
  | 28 => 0x33F9B800#32
  | 29 => 0xB3F5D532#32
  | 30 => 0x33F21BD6#32
  | 31 => 0xB3EE8A1F#32
  | 32 => 0x33EB1E5A#32
  | 33 => 0xB3E7D6EF#32
  | 34 => 0x33E4B25D#32
  | 35 => 0xB3E1AF3D#32
  | 36 => 0x33DECC38#32
  | 37 => 0xB3DC0810#32
  | 38 => 0x33D96196#32
  | 39 => 0xB3D6D7AE#32
  | 40 => 0x33D4694B#32
  | 41 => 0xB3D21572#32
  | 42 => 0x33CFDB34#32
  | 43 => 0xB3CDB9B1#32
  | 44 => 0x33CBB015#32
  | 45 => 0xB3C9BD97#32
  | 46 => 0x33C7E17D#32
  | 47 => 0xB3C61B15#32
  | 48 => 0x33C469B8#32
  | 49 => 0xB3C2CCC7#32
  | 50 => 0x33C143B0#32
  | 51 => 0xB3BFCDE6#32
  | 52 => 0x33BE6AE7#32
  | 53 => 0xB3BD1A36#32
  | 54 => 0x33BBDB61#32
  | 55 => 0xB3BAADFB#32
  | 56 => 0x33B9919E#32
  | 57 => 0xB3B885EC#32
  | 58 => 0x33B78A8A#32
  | 59 => 0xB3B69F28#32
  | 60 => 0x33B5C377#32
  | 61 => 0xB3B4F732#32
  | 62 => 0x33B43A15#32
  | 63 => 0xB3B38BE5#32
  | 64 => 0x33B2EC6A#32
  | 65 => 0xB3B25B72#32
  | 66 => 0x33B1D8CF#32
  | 67 => 0xB3B16459#32
  | 68 => 0x33B0FDEA#32
  | 69 => 0xB3B0A563#32
  | 70 => 0x33B05AA9#32
  | 71 => 0xB3B01DA5#32
  | 72 => 0x33AFEE43#32
  | 73 => 0xB3AFCC75#32
  | 74 => 0x33AFB831#32
  | 75 => 0xB3AFB170#32
  | 76 => 0x33AFB831#32
  | 77 => 0xB3AFCC75#32
  | 78 => 0x33AFEE43#32
  | 79 => 0xB3B01DA5#32
  | 80 => 0x33B05AA9#32
  | 81 => 0xB3B0A563#32
  | 82 => 0x33B0FDEA#32
  | 83 => 0xB3B16459#32
  | 84 => 0x33B1D8CF#32
  | 85 => 0xB3B25B72#32
  | 86 => 0x33B2EC6A#32
  | 87 => 0xB3B38BE5#32
  | 88 => 0x33B43A15#32
  | 89 => 0xB3B4F732#32
  | 90 => 0x33B5C377#32
  | 91 => 0xB3B69F28#32
  | 92 => 0x33B78A8A#32
  | 93 => 0xB3B885EC#32
  | 94 => 0x33B9919E#32
  | 95 => 0xB3BAADFB#32
  | 96 => 0x33BBDB61#32
  | 97 => 0xB3BD1A36#32
  | 98 => 0x33BE6AE7#32
  | 99 => 0xB3BFCDE6#32
  | 100 => 0x33C143B0#32
  | 101 => 0xB3C2CCC7#32
  | 102 => 0x33C469B8#32
  | 103 => 0xB3C61B15#32
  | 104 => 0x33C7E17D#32
  | 105 => 0xB3C9BD97#32
  | 106 => 0x33CBB015#32
  | 107 => 0xB3CDB9B1#32
  | 108 => 0x33CFDB34#32
  | 109 => 0xB3D21572#32
  | 110 => 0x33D4694B#32
  | 111 => 0xB3D6D7AE#32
  | 112 => 0x33D96196#32
  | 113 => 0xB3DC0810#32
  | 114 => 0x33DECC38#32
  | 115 => 0xB3E1AF3D#32
  | 116 => 0x33E4B25D#32
  | 117 => 0xB3E7D6EF#32
  | 118 => 0x33EB1E5A#32
  | 119 => 0xB3EE8A1F#32
  | 120 => 0x33F21BD6#32
  | 121 => 0xB3F5D532#32
  | 122 => 0x33F9B800#32
  | 123 => 0xB3FDC62E#32
  | 124 => 0x340100E3#32
  | 125 => 0xB403367C#32
  | 126 => 0x3405850C#32
  | 127 => 0xB407EDD1#32
  | _ => 0#32

noncomputable abbrev lit0t0_407 (i : Nat) : BitVec 32 := match i % 128 with
  | 0 => 0x340A721F#32
  | 1 => 0xB40D1360#32
  | 2 => 0x340FD31A#32
  | 3 => 0xB412B2ED#32
  | 4 => 0x3415B495#32
  | 5 => 0xB418D9F0#32
  | 6 => 0x341C2500#32
  | 7 => 0xB41F97EA#32
  | 8 => 0x342334FF#32
  | 9 => 0xB426FEBD#32
  | 10 => 0x342AF7D2#32
  | 11 => 0xB42F2322#32
  | 12 => 0x343383CC#32
  | 13 => 0xB4381D32#32
  | 14 => 0x343CF2FA#32
  | 15 => 0xB4420919#32
  | 16 => 0x344763DA#32
  | 17 => 0xB44D07E6#32
  | 18 => 0x3452FA51#32
  | 19 => 0xB45940A1#32
  | 20 => 0x345FE0DA#32
  | 21 => 0xB466E193#32
  | 22 => 0x346E49FF#32
  | 23 => 0xB4762200#32
  | 24 => 0x347E723F#32
  | 25 => 0xB483A221#32
  | 26 => 0x34885143#32
  | 27 => 0xB48D4C4D#32
  | 28 => 0x349299A5#32
  | 29 => 0xB4984061#32
  | 30 => 0x349E485F#32
  | 31 => 0xB4A4BA5F#32
  | 32 => 0x34ABA023#32
  | 33 => 0xB4B30492#32
  | 34 => 0x34BAF3E5#32
  | 35 => 0xB4C37BD6#32
  | 36 => 0x34CCABDA#32
  | 37 => 0xB4D69568#32
  | 38 => 0x34E14C49#32
  | 39 => 0xB4ECE6F7#32
  | 40 => 0x34F97F13#32
  | 41 => 0xB50398F7#32
  | 42 => 0x350B1097#32
  | 43 => 0xB51339CD#32
  | 44 => 0x351C2B08#32
  | 45 => 0xB525FE56#32
  | 46 => 0x3530D21D#32
  | 47 => 0xB53CCA00#32
  | 48 => 0x354A0FF9#32
  | 49 => 0xB558D5BB#32
  | 50 => 0x35695670#32
  | 51 => 0xB57BD8F1#32
  | 52 => 0x3588594C#32
  | 53 => 0xB5942572#32
  | 54 => 0x35A19018#32
  | 55 => 0xB5B0E6EF#32
  | 56 => 0x35C28A3B#32
  | 57 => 0xB5D6F23A#32
  | 58 => 0x35EEB658#32
  | 59 => 0xB6054B76#32
  | 60 => 0x3615C529#32
  | 61 => 0xB6296767#32
  | 62 => 0x3641014B#32
  | 63 => 0xB65DA20C#32
  | 64 => 0x368056F2#32
  | 65 => 0xB695FBC4#32
  | 66 => 0x36B0ED61#32
  | 67 => 0xB6D29E9B#32
  | 68 => 0x36FFBDB2#32
  | 69 => 0xB692EE32#32
  | 70 => 0x391EBB1A#32
  | 71 => 0x3B12D0DF#32
  | 72 => 0x3CA0086D#32
  | 73 => 0x3DBAD58B#32
  | 74 => 0x3E6BB748#32
  | 75 => 0x3EA069FE#32
  | 76 => 0x3E6BB748#32
  | 77 => 0x3DBAD58B#32
  | 78 => 0x3CA0086D#32
  | 79 => 0x3B12D0DF#32
  | 80 => 0x391EBB1A#32
  | 81 => 0xB692EE32#32
  | 82 => 0x36FFBDB2#32
  | 83 => 0xB6D29E9B#32
  | 84 => 0x36B0ED61#32
  | 85 => 0xB695FBC4#32
  | 86 => 0x368056F2#32
  | 87 => 0xB65DA20C#32
  | 88 => 0x3641014B#32
  | 89 => 0xB6296767#32
  | 90 => 0x3615C529#32
  | 91 => 0xB6054B76#32
  | 92 => 0x35EEB658#32
  | 93 => 0xB5D6F23A#32
  | 94 => 0x35C28A3B#32
  | 95 => 0xB5B0E6EF#32
  | 96 => 0x35A19018#32
  | 97 => 0xB5942572#32
  | 98 => 0x3588594C#32
  | 99 => 0xB57BD8F1#32
  | 100 => 0x35695670#32
  | 101 => 0xB558D5BB#32
  | 102 => 0x354A0FF9#32
  | 103 => 0xB53CCA00#32
  | 104 => 0x3530D21D#32
  | 105 => 0xB525FE56#32
  | 106 => 0x351C2B08#32
  | 107 => 0xB51339CD#32
  | 108 => 0x350B1097#32
  | 109 => 0xB50398F7#32
  | 110 => 0x34F97F13#32
  | 111 => 0xB4ECE6F7#32
  | 112 => 0x34E14C49#32
  | 113 => 0xB4D69568#32
  | 114 => 0x34CCABDA#32
  | 115 => 0xB4C37BD6#32
  | 116 => 0x34BAF3E5#32
  | 117 => 0xB4B30492#32
  | 118 => 0x34ABA023#32
  | 119 => 0xB4A4BA5F#32
  | 120 => 0x349E485F#32
  | 121 => 0xB4984061#32
  | 122 => 0x349299A5#32
  | 123 => 0xB48D4C4D#32
  | 124 => 0x34885142#32
  | 125 => 0xB483A221#32
  | 126 => 0x347E723F#32
  | 127 => 0xB4762200#32
  | _ => 0#32

noncomputable abbrev lit0t0_408 (i : Nat) : BitVec 32 := match i % 128 with
  | 0 => 0xB4762200#32
  | 1 => 0x346E49FF#32
  | 2 => 0xB466E193#32
  | 3 => 0x345FE0DA#32
  | 4 => 0xB45940A1#32
  | 5 => 0x3452FA51#32
  | 6 => 0xB44D07E6#32
  | 7 => 0x344763DA#32
  | 8 => 0xB4420919#32
  | 9 => 0x343CF2FA#32
  | 10 => 0xB4381D32#32
  | 11 => 0x343383CC#32
  | 12 => 0xB42F2322#32
  | 13 => 0x342AF7D2#32
  | 14 => 0xB426FEBD#32
  | 15 => 0x342334FF#32
  | 16 => 0xB41F97EA#32
  | 17 => 0x341C2500#32
  | 18 => 0xB418D9F0#32
  | 19 => 0x3415B495#32
  | 20 => 0xB412B2ED#32
  | 21 => 0x340FD31A#32
  | 22 => 0xB40D1360#32
  | 23 => 0x340A721F#32
  | 24 => 0xB407EDD1#32
  | 25 => 0x3405850C#32
  | 26 => 0xB403367C#32
  | 27 => 0x340100E3#32
  | 28 => 0xB3FDC62E#32
  | 29 => 0x33F9B800#32
  | 30 => 0xB3F5D532#32
  | 31 => 0x33F21BD6#32
  | 32 => 0xB3EE8A1F#32
  | 33 => 0x33EB1E5A#32
  | 34 => 0xB3E7D6EF#32
  | 35 => 0x33E4B25D#32
  | 36 => 0xB3E1AF3D#32
  | 37 => 0x33DECC38#32
  | 38 => 0xB3DC0810#32
  | 39 => 0x33D96196#32
  | 40 => 0xB3D6D7AE#32
  | 41 => 0x33D4694B#32
  | 42 => 0xB3D21572#32
  | 43 => 0x33CFDB34#32
  | 44 => 0xB3CDB9B1#32
  | 45 => 0x33CBB015#32
  | 46 => 0xB3C9BD97#32
  | 47 => 0x33C7E17D#32
  | 48 => 0xB3C61B15#32
  | 49 => 0x33C469B8#32
  | 50 => 0xB3C2CCC7#32
  | 51 => 0x33C143B0#32
  | 52 => 0xB3BFCDE6#32
  | 53 => 0x33BE6AE7#32
  | 54 => 0xB3BD1A36#32
  | 55 => 0x33BBDB61#32
  | 56 => 0xB3BAADFB#32
  | 57 => 0x33B9919E#32
  | 58 => 0xB3B885EC#32
  | 59 => 0x33B78A8A#32
  | 60 => 0xB3B69F28#32
  | 61 => 0x33B5C377#32
  | 62 => 0xB3B4F732#32
  | 63 => 0x33B43A15#32
  | 64 => 0xB3B38BE5#32
  | 65 => 0x33B2EC6A#32
  | 66 => 0xB3B25B72#32
  | 67 => 0x33B1D8CF#32
  | 68 => 0xB3B16459#32
  | 69 => 0x33B0FDEA#32
  | 70 => 0xB3B0A563#32
  | 71 => 0x33B05AA9#32
  | 72 => 0xB3B01DA5#32
  | 73 => 0x33AFEE43#32
  | 74 => 0xB3AFCC75#32
  | 75 => 0x33AFB831#32
  | 76 => 0xB3AFB170#32
  | 77 => 0x33AFB831#32
  | 78 => 0xB3AFCC75#32
  | 79 => 0x33AFEE43#32
  | 80 => 0xB3B01DA5#32
  | 81 => 0x33B05AA9#32
  | 82 => 0xB3B0A563#32
  | 83 => 0x33B0FDEA#32
  | 84 => 0xB3B16459#32
  | 85 => 0x33B1D8CF#32
  | 86 => 0xB3B25B72#32
  | 87 => 0x33B2EC6A#32
  | 88 => 0xB3B38BE5#32
  | 89 => 0x33B43A15#32
  | 90 => 0xB3B4F732#32
  | 91 => 0x33B5C377#32
  | 92 => 0xB3B69F28#32
  | 93 => 0x33B78A8A#32
  | 94 => 0xB3B885EC#32
  | 95 => 0x33B9919E#32
  | 96 => 0xB3BAADFB#32
  | 97 => 0x33BBDB61#32
  | 98 => 0xB3BD1A36#32
  | 99 => 0x33BE6AE7#32
  | 100 => 0xB3BFCDE6#32
  | 101 => 0x33C143B0#32
  | 102 => 0xB3C2CCC7#32
  | 103 => 0x33C469B8#32
  | 104 => 0xB3C61B15#32
  | 105 => 0x33C7E17D#32
  | 106 => 0xB3C9BD97#32
  | 107 => 0x33CBB015#32
  | 108 => 0xB3CDB9B1#32
  | 109 => 0x33CFDB34#32
  | 110 => 0xB3D21572#32
  | 111 => 0x33D4694B#32
  | 112 => 0xB3D6D7AE#32
  | 113 => 0x33D96196#32
  | 114 => 0xB3DC0810#32
  | 115 => 0x33DECC38#32
  | 116 => 0xB3E1AF3D#32
  | 117 => 0x33E4B25D#32
  | 118 => 0xB3E7D6EF#32
  | 119 => 0x33EB1E5A#32
  | 120 => 0xB3EE8A1F#32
  | 121 => 0x33F21BD6#32
  | 122 => 0xB3F5D532#32
  | 123 => 0x33F9B800#32
  | 124 => 0xB3FDC62E#32
  | 125 => 0x340100E3#32
  | 126 => 0xB403367C#32
  | 127 => 0x3405850C#32
  | _ => 0#32

noncomputable abbrev lit0t0_409 (i : Nat) : BitVec 32 := match i % 128 with
  | 0 => 0xB407EDD1#32
  | 1 => 0x340A721F#32
  | 2 => 0xB40D1360#32
  | 3 => 0x340FD31A#32
  | 4 => 0xB412B2ED#32
  | 5 => 0x3415B495#32
  | 6 => 0xB418D9F0#32
  | 7 => 0x341C2500#32
  | 8 => 0xB41F97EA#32
  | 9 => 0x342334FF#32
  | 10 => 0xB426FEBD#32
  | 11 => 0x342AF7D2#32
  | 12 => 0xB42F2322#32
  | 13 => 0x343383CC#32
  | 14 => 0xB4381D32#32
  | 15 => 0x343CF2FA#32
  | 16 => 0xB4420919#32
  | 17 => 0x344763DA#32
  | 18 => 0xB44D07E6#32
  | 19 => 0x3452FA51#32
  | 20 => 0xB45940A1#32
  | 21 => 0x345FE0DA#32
  | 22 => 0xB466E193#32
  | 23 => 0x346E49FF#32
  | 24 => 0xB4762200#32
  | 25 => 0x347E723F#32
  | 26 => 0xB483A221#32
  | 27 => 0x34885142#32
  | 28 => 0xB48D4C4D#32
  | 29 => 0x349299A5#32
  | 30 => 0xB4984061#32
  | 31 => 0x349E485F#32
  | 32 => 0xB4A4BA5F#32
  | 33 => 0x34ABA023#32
  | 34 => 0xB4B30492#32
  | 35 => 0x34BAF3E5#32
  | 36 => 0xB4C37BD6#32
  | 37 => 0x34CCABDA#32
  | 38 => 0xB4D69568#32
  | 39 => 0x34E14C49#32
  | 40 => 0xB4ECE6F7#32
  | 41 => 0x34F97F13#32
  | 42 => 0xB50398F7#32
  | 43 => 0x350B1097#32
  | 44 => 0xB51339CD#32
  | 45 => 0x351C2B08#32
  | 46 => 0xB525FE56#32
  | 47 => 0x3530D21D#32
  | 48 => 0xB53CCA00#32
  | 49 => 0x354A0FF9#32
  | 50 => 0xB558D5BB#32
  | 51 => 0x35695670#32
  | 52 => 0xB57BD8F1#32
  | 53 => 0x3588594C#32
  | 54 => 0xB5942572#32
  | 55 => 0x35A19018#32
  | 56 => 0xB5B0E6EF#32
  | 57 => 0x35C28A3B#32
  | 58 => 0xB5D6F23A#32
  | 59 => 0x35EEB658#32
  | 60 => 0xB6054B76#32
  | 61 => 0x3615C529#32
  | 62 => 0xB6296767#32
  | 63 => 0x3641014B#32
  | 64 => 0xB65DA20C#32
  | 65 => 0x368056F2#32
  | 66 => 0xB695FBC4#32
  | 67 => 0x36B0ED61#32
  | 68 => 0xB6D29E9B#32
  | 69 => 0x36FFBDB2#32
  | 70 => 0xB692EE32#32
  | 71 => 0x391EBB1A#32
  | 72 => 0x3B12D0DF#32
  | 73 => 0x3CA0086D#32
  | 74 => 0x3DBAD58B#32
  | 75 => 0x3E6BB748#32
  | 76 => 0x3EA069FE#32
  | 77 => 0x3E6BB748#32
  | 78 => 0x3DBAD58B#32
  | 79 => 0x3CA0086D#32
  | 80 => 0x3B12D0DF#32
  | 81 => 0x391EBB1A#32
  | 82 => 0xB692EE32#32
  | 83 => 0x36FFBDB2#32
  | 84 => 0xB6D29E9B#32
  | 85 => 0x36B0ED61#32
  | 86 => 0xB695FBC4#32
  | 87 => 0x368056F2#32
  | 88 => 0xB65DA20C#32
  | 89 => 0x3641014B#32
  | 90 => 0xB6296767#32
  | 91 => 0x3615C529#32
  | 92 => 0xB6054B76#32
  | 93 => 0x35EEB658#32
  | 94 => 0xB5D6F23A#32
  | 95 => 0x35C28A3B#32
  | 96 => 0xB5B0E6EF#32
  | 97 => 0x35A19018#32
  | 98 => 0xB5942572#32
  | 99 => 0x3588594C#32
  | 100 => 0xB57BD8F1#32
  | 101 => 0x35695670#32
  | 102 => 0xB558D5BB#32
  | 103 => 0x354A0FF9#32
  | 104 => 0xB53CCA00#32
  | 105 => 0x3530D21D#32
  | 106 => 0xB525FE56#32
  | 107 => 0x351C2B08#32
  | 108 => 0xB51339CD#32
  | 109 => 0x350B1097#32
  | 110 => 0xB50398F7#32
  | 111 => 0x34F97F13#32
  | 112 => 0xB4ECE6F7#32
  | 113 => 0x34E14C49#32
  | 114 => 0xB4D69568#32
  | 115 => 0x34CCABDA#32
  | 116 => 0xB4C37BD6#32
  | 117 => 0x34BAF3E5#32
  | 118 => 0xB4B30492#32
  | 119 => 0x34ABA023#32
  | 120 => 0xB4A4BA5F#32
  | 121 => 0x349E485F#32
  | 122 => 0xB4984061#32
  | 123 => 0x349299A5#32
  | 124 => 0xB48D4C4D#32
  | 125 => 0x34885142#32
  | 126 => 0xB483A221#32
  | 127 => 0x347E723F#32
  | _ => 0#32

noncomputable abbrev lit0t0_410 (i : Nat) : BitVec 32 := match i % 128 with
  | 0 => 0x347E723F#32
  | 1 => 0xB4762200#32
  | 2 => 0x346E49FF#32
  | 3 => 0xB466E193#32
  | 4 => 0x345FE0DA#32
  | 5 => 0xB45940A1#32
  | 6 => 0x3452FA51#32
  | 7 => 0xB44D07E6#32
  | 8 => 0x344763DA#32
  | 9 => 0xB4420919#32
  | 10 => 0x343CF2FA#32
  | 11 => 0xB4381D32#32
  | 12 => 0x343383CC#32
  | 13 => 0xB42F2322#32
  | 14 => 0x342AF7D2#32
  | 15 => 0xB426FEBD#32
  | 16 => 0x342334FF#32
  | 17 => 0xB41F97EA#32
  | 18 => 0x341C2500#32
  | 19 => 0xB418D9F0#32
  | 20 => 0x3415B495#32
  | 21 => 0xB412B2ED#32
  | 22 => 0x340FD31A#32
  | 23 => 0xB40D1360#32
  | 24 => 0x340A721F#32
  | 25 => 0xB407EDD1#32
  | 26 => 0x3405850C#32
  | 27 => 0xB403367C#32
  | 28 => 0x340100E3#32
  | 29 => 0xB3FDC62E#32
  | 30 => 0x33F9B800#32
  | 31 => 0xB3F5D532#32
  | 32 => 0x33F21BD6#32
  | 33 => 0xB3EE8A1F#32
  | 34 => 0x33EB1E5A#32
  | 35 => 0xB3E7D6EF#32
  | 36 => 0x33E4B25D#32
  | 37 => 0xB3E1AF3D#32
  | 38 => 0x33DECC38#32
  | 39 => 0xB3DC0810#32
  | 40 => 0x33D96196#32
  | 41 => 0xB3D6D7AE#32
  | 42 => 0x33D4694B#32
  | 43 => 0xB3D21572#32
  | 44 => 0x33CFDB34#32
  | 45 => 0xB3CDB9B1#32
  | 46 => 0x33CBB015#32
  | 47 => 0xB3C9BD97#32
  | 48 => 0x33C7E17D#32
  | 49 => 0xB3C61B15#32
  | 50 => 0x33C469B8#32
  | 51 => 0xB3C2CCC7#32
  | 52 => 0x33C143B0#32
  | 53 => 0xB3BFCDE6#32
  | 54 => 0x33BE6AE7#32
  | 55 => 0xB3BD1A36#32
  | 56 => 0x33BBDB61#32
  | 57 => 0xB3BAADFB#32
  | 58 => 0x33B9919E#32
  | 59 => 0xB3B885EC#32
  | 60 => 0x33B78A8A#32
  | 61 => 0xB3B69F28#32
  | 62 => 0x33B5C377#32
  | 63 => 0xB3B4F732#32
  | 64 => 0x33B43A15#32
  | 65 => 0xB3B38BE5#32
  | 66 => 0x33B2EC6A#32
  | 67 => 0xB3B25B72#32
  | 68 => 0x33B1D8CF#32
  | 69 => 0xB3B16459#32
  | 70 => 0x33B0FDEA#32
  | 71 => 0xB3B0A563#32
  | 72 => 0x33B05AA9#32
  | 73 => 0xB3B01DA5#32
  | 74 => 0x33AFEE43#32
  | 75 => 0xB3AFCC75#32
  | 76 => 0x33AFB831#32
  | 77 => 0xB3AFB170#32
  | 78 => 0x33AFB831#32
  | 79 => 0xB3AFCC75#32
  | 80 => 0x33AFEE43#32
  | 81 => 0xB3B01DA5#32
  | 82 => 0x33B05AA9#32
  | 83 => 0xB3B0A563#32
  | 84 => 0x33B0FDEA#32
  | 85 => 0xB3B16459#32
  | 86 => 0x33B1D8CF#32
  | 87 => 0xB3B25B72#32
  | 88 => 0x33B2EC6A#32
  | 89 => 0xB3B38BE5#32
  | 90 => 0x33B43A15#32
  | 91 => 0xB3B4F732#32
  | 92 => 0x33B5C377#32
  | 93 => 0xB3B69F28#32
  | 94 => 0x33B78A8A#32
  | 95 => 0xB3B885EC#32
  | 96 => 0x33B9919E#32
  | 97 => 0xB3BAADFB#32
  | 98 => 0x33BBDB61#32
  | 99 => 0xB3BD1A36#32
  | 100 => 0x33BE6AE7#32
  | 101 => 0xB3BFCDE6#32
  | 102 => 0x33C143B0#32
  | 103 => 0xB3C2CCC7#32
  | 104 => 0x33C469B8#32
  | 105 => 0xB3C61B15#32
  | 106 => 0x33C7E17D#32
  | 107 => 0xB3C9BD97#32
  | 108 => 0x33CBB015#32
  | 109 => 0xB3CDB9B1#32
  | 110 => 0x33CFDB34#32
  | 111 => 0xB3D21572#32
  | 112 => 0x33D4694B#32
  | 113 => 0xB3D6D7AE#32
  | 114 => 0x33D96196#32
  | 115 => 0xB3DC0810#32
  | 116 => 0x33DECC38#32
  | 117 => 0xB3E1AF3D#32
  | 118 => 0x33E4B25D#32
  | 119 => 0xB3E7D6EF#32
  | 120 => 0x33EB1E5A#32
  | 121 => 0xB3EE8A1F#32
  | 122 => 0x33F21BD6#32
  | 123 => 0xB3F5D532#32
  | 124 => 0x33F9B800#32
  | 125 => 0xB3FDC62E#32
  | 126 => 0x340100E3#32
  | 127 => 0xB403367C#32
  | _ => 0#32

noncomputable abbrev lit0t0_411 (i : Nat) : BitVec 32 := match i % 128 with
  | 0 => 0x3405850C#32
  | 1 => 0xB407EDD1#32
  | 2 => 0x340A721F#32
  | 3 => 0xB40D1360#32
  | 4 => 0x340FD31A#32
  | 5 => 0xB412B2ED#32
  | 6 => 0x3415B495#32
  | 7 => 0xB418D9F0#32
  | 8 => 0x341C2500#32
  | 9 => 0xB41F97EA#32
  | 10 => 0x342334FF#32
  | 11 => 0xB426FEBD#32
  | 12 => 0x342AF7D2#32
  | 13 => 0xB42F2322#32
  | 14 => 0x343383CC#32
  | 15 => 0xB4381D32#32
  | 16 => 0x343CF2FA#32
  | 17 => 0xB4420919#32
  | 18 => 0x344763DA#32
  | 19 => 0xB44D07E6#32
  | 20 => 0x3452FA51#32
  | 21 => 0xB45940A1#32
  | 22 => 0x345FE0DA#32
  | 23 => 0xB466E193#32
  | 24 => 0x346E49FF#32
  | 25 => 0xB4762200#32
  | 26 => 0x347E723F#32
  | 27 => 0xB483A221#32
  | 28 => 0x34885142#32
  | 29 => 0xB48D4C4D#32
  | 30 => 0x349299A5#32
  | 31 => 0xB4984061#32
  | 32 => 0x349E485F#32
  | 33 => 0xB4A4BA5F#32
  | 34 => 0x34ABA023#32
  | 35 => 0xB4B30492#32
  | 36 => 0x34BAF3E5#32
  | 37 => 0xB4C37BD6#32
  | 38 => 0x34CCABDA#32
  | 39 => 0xB4D69568#32
  | 40 => 0x34E14C49#32
  | 41 => 0xB4ECE6F7#32
  | 42 => 0x34F97F13#32
  | 43 => 0xB50398F7#32
  | 44 => 0x350B1097#32
  | 45 => 0xB51339CD#32
  | 46 => 0x351C2B08#32
  | 47 => 0xB525FE56#32
  | 48 => 0x3530D21D#32
  | 49 => 0xB53CCA00#32
  | 50 => 0x354A0FF9#32
  | 51 => 0xB558D5BB#32
  | 52 => 0x35695670#32
  | 53 => 0xB57BD8F1#32
  | 54 => 0x3588594C#32
  | 55 => 0xB5942572#32
  | 56 => 0x35A19018#32
  | 57 => 0xB5B0E6EF#32
  | 58 => 0x35C28A3B#32
  | 59 => 0xB5D6F23A#32
  | 60 => 0x35EEB658#32
  | 61 => 0xB6054B76#32
  | 62 => 0x3615C529#32
  | 63 => 0xB6296767#32
  | 64 => 0x3641014B#32
  | 65 => 0xB65DA20C#32
  | 66 => 0x368056F2#32
  | 67 => 0xB695FBC4#32
  | 68 => 0x36B0ED61#32
  | 69 => 0xB6D29E9B#32
  | 70 => 0x36FFBDB2#32
  | 71 => 0xB692EE32#32
  | 72 => 0x391EBB1A#32
  | 73 => 0x3B12D0DF#32
  | 74 => 0x3CA0086D#32
  | 75 => 0x3DBAD58B#32
  | 76 => 0x3E6BB748#32
  | 77 => 0x3EA069FE#32
  | 78 => 0x3E6BB748#32
  | 79 => 0x3DBAD58B#32
  | 80 => 0x3CA0086D#32
  | 81 => 0x3B12D0DF#32
  | 82 => 0x391EBB1A#32
  | 83 => 0xB692EE32#32
  | 84 => 0x36FFBDB2#32
  | 85 => 0xB6D29E9B#32
  | 86 => 0x36B0ED61#32
  | 87 => 0xB695FBC4#32
  | 88 => 0x368056F2#32
  | 89 => 0xB65DA20C#32
  | 90 => 0x3641014B#32
  | 91 => 0xB6296767#32
  | 92 => 0x3615C529#32
  | 93 => 0xB6054B76#32
  | 94 => 0x35EEB658#32
  | 95 => 0xB5D6F23A#32
  | 96 => 0x35C28A3B#32
  | 97 => 0xB5B0E6EF#32
  | 98 => 0x35A19018#32
  | 99 => 0xB5942572#32
  | 100 => 0x3588594C#32
  | 101 => 0xB57BD8F1#32
  | 102 => 0x35695670#32
  | 103 => 0xB558D5BB#32
  | 104 => 0x354A0FF9#32
  | 105 => 0xB53CCA00#32
  | 106 => 0x3530D21D#32
  | 107 => 0xB525FE56#32
  | 108 => 0x351C2B08#32
  | 109 => 0xB51339CD#32
  | 110 => 0x350B1097#32
  | 111 => 0xB50398F7#32
  | 112 => 0x34F97F13#32
  | 113 => 0xB4ECE6F7#32
  | 114 => 0x34E14C49#32
  | 115 => 0xB4D69568#32
  | 116 => 0x34CCABDA#32
  | 117 => 0xB4C37BD6#32
  | 118 => 0x34BAF3E5#32
  | 119 => 0xB4B30492#32
  | 120 => 0x34ABA023#32
  | 121 => 0xB4A4BA5F#32
  | 122 => 0x349E485F#32
  | 123 => 0xB4984061#32
  | 124 => 0x349299A5#32
  | 125 => 0xB48D4C4D#32
  | 126 => 0x34885142#32
  | 127 => 0xB483A221#32
  | _ => 0#32

noncomputable abbrev lit0t0_412 (i : Nat) : BitVec 32 := match i % 128 with
  | 0 => 0xB483A221#32
  | 1 => 0x347E723F#32
  | 2 => 0xB4762200#32
  | 3 => 0x346E49FF#32
  | 4 => 0xB466E193#32
  | 5 => 0x345FE0DA#32
  | 6 => 0xB45940A1#32
  | 7 => 0x3452FA51#32
  | 8 => 0xB44D07E6#32
  | 9 => 0x344763DA#32
  | 10 => 0xB4420919#32
  | 11 => 0x343CF2FA#32
  | 12 => 0xB4381D32#32
  | 13 => 0x343383CC#32
  | 14 => 0xB42F2322#32
  | 15 => 0x342AF7D2#32
  | 16 => 0xB426FEBD#32
  | 17 => 0x342334FF#32
  | 18 => 0xB41F97EA#32
  | 19 => 0x341C2500#32
  | 20 => 0xB418D9F0#32
  | 21 => 0x3415B495#32
  | 22 => 0xB412B2ED#32
  | 23 => 0x340FD31A#32
  | 24 => 0xB40D1360#32
  | 25 => 0x340A721F#32
  | 26 => 0xB407EDD1#32
  | 27 => 0x3405850C#32
  | 28 => 0xB403367C#32
  | 29 => 0x340100E3#32
  | 30 => 0xB3FDC62E#32
  | 31 => 0x33F9B800#32
  | 32 => 0xB3F5D532#32
  | 33 => 0x33F21BD6#32
  | 34 => 0xB3EE8A1F#32
  | 35 => 0x33EB1E5A#32
  | 36 => 0xB3E7D6EF#32
  | 37 => 0x33E4B25D#32
  | 38 => 0xB3E1AF3D#32
  | 39 => 0x33DECC38#32
  | 40 => 0xB3DC0810#32
  | 41 => 0x33D96196#32
  | 42 => 0xB3D6D7AE#32
  | 43 => 0x33D4694B#32
  | 44 => 0xB3D21572#32
  | 45 => 0x33CFDB34#32
  | 46 => 0xB3CDB9B1#32
  | 47 => 0x33CBB015#32
  | 48 => 0xB3C9BD97#32
  | 49 => 0x33C7E17D#32
  | 50 => 0xB3C61B15#32
  | 51 => 0x33C469B8#32
  | 52 => 0xB3C2CCC7#32
  | 53 => 0x33C143B0#32
  | 54 => 0xB3BFCDE6#32
  | 55 => 0x33BE6AE7#32
  | 56 => 0xB3BD1A36#32
  | 57 => 0x33BBDB61#32
  | 58 => 0xB3BAADFB#32
  | 59 => 0x33B9919E#32
  | 60 => 0xB3B885EC#32
  | 61 => 0x33B78A8A#32
  | 62 => 0xB3B69F28#32
  | 63 => 0x33B5C377#32
  | 64 => 0xB3B4F732#32
  | 65 => 0x33B43A15#32
  | 66 => 0xB3B38BE5#32
  | 67 => 0x33B2EC6A#32
  | 68 => 0xB3B25B72#32
  | 69 => 0x33B1D8CF#32
  | 70 => 0xB3B16459#32
  | 71 => 0x33B0FDEA#32
  | 72 => 0xB3B0A563#32
  | 73 => 0x33B05AA9#32
  | 74 => 0xB3B01DA5#32
  | 75 => 0x33AFEE43#32
  | 76 => 0xB3AFCC75#32
  | 77 => 0x33AFB831#32
  | 78 => 0xB3AFB170#32
  | 79 => 0x33AFB831#32
  | 80 => 0xB3AFCC75#32
  | 81 => 0x33AFEE43#32
  | 82 => 0xB3B01DA5#32
  | 83 => 0x33B05AA9#32
  | 84 => 0xB3B0A563#32
  | 85 => 0x33B0FDEA#32
  | 86 => 0xB3B16459#32
  | 87 => 0x33B1D8CF#32
  | 88 => 0xB3B25B72#32
  | 89 => 0x33B2EC6A#32
  | 90 => 0xB3B38BE5#32
  | 91 => 0x33B43A15#32
  | 92 => 0xB3B4F732#32
  | 93 => 0x33B5C377#32
  | 94 => 0xB3B69F28#32
  | 95 => 0x33B78A8A#32
  | 96 => 0xB3B885EC#32
  | 97 => 0x33B9919E#32
  | 98 => 0xB3BAADFB#32
  | 99 => 0x33BBDB61#32
  | 100 => 0xB3BD1A36#32
  | 101 => 0x33BE6AE7#32
  | 102 => 0xB3BFCDE6#32
  | 103 => 0x33C143B0#32
  | 104 => 0xB3C2CCC7#32
  | 105 => 0x33C469B8#32
  | 106 => 0xB3C61B15#32
  | 107 => 0x33C7E17D#32
  | 108 => 0xB3C9BD97#32
  | 109 => 0x33CBB015#32
  | 110 => 0xB3CDB9B1#32
  | 111 => 0x33CFDB34#32
  | 112 => 0xB3D21572#32
  | 113 => 0x33D4694B#32
  | 114 => 0xB3D6D7AE#32
  | 115 => 0x33D96196#32
  | 116 => 0xB3DC0810#32
  | 117 => 0x33DECC38#32
  | 118 => 0xB3E1AF3D#32
  | 119 => 0x33E4B25D#32
  | 120 => 0xB3E7D6EF#32
  | 121 => 0x33EB1E5A#32
  | 122 => 0xB3EE8A1F#32
  | 123 => 0x33F21BD6#32
  | 124 => 0xB3F5D532#32
  | 125 => 0x33F9B800#32
  | 126 => 0xB3FDC62E#32
  | 127 => 0x340100E3#32
  | _ => 0#32

noncomputable abbrev lit0t0_413 (i : Nat) : BitVec 32 := match i % 128 with
  | 0 => 0xB403367C#32
  | 1 => 0x3405850C#32
  | 2 => 0xB407EDD1#32
  | 3 => 0x340A721F#32
  | 4 => 0xB40D1360#32
  | 5 => 0x340FD31A#32
  | 6 => 0xB412B2ED#32
  | 7 => 0x3415B495#32
  | 8 => 0xB418D9F0#32
  | 9 => 0x341C2500#32
  | 10 => 0xB41F97EA#32
  | 11 => 0x342334FF#32
  | 12 => 0xB426FEBD#32
  | 13 => 0x342AF7D2#32
  | 14 => 0xB42F2322#32
  | 15 => 0x343383CC#32
  | 16 => 0xB4381D32#32
  | 17 => 0x343CF2FA#32
  | 18 => 0xB4420919#32
  | 19 => 0x344763DA#32
  | 20 => 0xB44D07E6#32
  | 21 => 0x3452FA51#32
  | 22 => 0xB45940A1#32
  | 23 => 0x345FE0DA#32
  | 24 => 0xB466E193#32
  | 25 => 0x346E49FF#32
  | 26 => 0xB4762200#32
  | 27 => 0x347E723F#32
  | 28 => 0xB483A221#32
  | 29 => 0x34885142#32
  | 30 => 0xB48D4C4D#32
  | 31 => 0x349299A5#32
  | 32 => 0xB4984061#32
  | 33 => 0x349E485F#32
  | 34 => 0xB4A4BA5F#32
  | 35 => 0x34ABA023#32
  | 36 => 0xB4B30492#32
  | 37 => 0x34BAF3E5#32
  | 38 => 0xB4C37BD6#32
  | 39 => 0x34CCABDA#32
  | 40 => 0xB4D69568#32
  | 41 => 0x34E14C49#32
  | 42 => 0xB4ECE6F7#32
  | 43 => 0x34F97F13#32
  | 44 => 0xB50398F7#32
  | 45 => 0x350B1097#32
  | 46 => 0xB51339CD#32
  | 47 => 0x351C2B08#32
  | 48 => 0xB525FE56#32
  | 49 => 0x3530D21D#32
  | 50 => 0xB53CCA00#32
  | 51 => 0x354A0FF9#32
  | 52 => 0xB558D5BB#32
  | 53 => 0x35695670#32
  | 54 => 0xB57BD8F1#32
  | 55 => 0x3588594C#32
  | 56 => 0xB5942572#32
  | 57 => 0x35A19018#32
  | 58 => 0xB5B0E6EF#32
  | 59 => 0x35C28A3B#32
  | 60 => 0xB5D6F23A#32
  | 61 => 0x35EEB658#32
  | 62 => 0xB6054B76#32
  | 63 => 0x3615C529#32
  | 64 => 0xB6296767#32
  | 65 => 0x3641014B#32
  | 66 => 0xB65DA20C#32
  | 67 => 0x368056F2#32
  | 68 => 0xB695FBC4#32
  | 69 => 0x36B0ED61#32
  | 70 => 0xB6D29E9B#32
  | 71 => 0x36FFBDB2#32
  | 72 => 0xB692EE32#32
  | 73 => 0x391EBB1A#32
  | 74 => 0x3B12D0DF#32
  | 75 => 0x3CA0086D#32
  | 76 => 0x3DBAD58B#32
  | 77 => 0x3E6BB748#32
  | 78 => 0x3EA069FE#32
  | 79 => 0x3E6BB748#32
  | 80 => 0x3DBAD58B#32
  | 81 => 0x3CA0086D#32
  | 82 => 0x3B12D0DF#32
  | 83 => 0x391EBB1A#32
  | 84 => 0xB692EE32#32
  | 85 => 0x36FFBDB2#32
  | 86 => 0xB6D29E9B#32
  | 87 => 0x36B0ED61#32
  | 88 => 0xB695FBC4#32
  | 89 => 0x368056F2#32
  | 90 => 0xB65DA20C#32
  | 91 => 0x3641014B#32
  | 92 => 0xB6296767#32
  | 93 => 0x3615C529#32
  | 94 => 0xB6054B76#32
  | 95 => 0x35EEB658#32
  | 96 => 0xB5D6F23A#32
  | 97 => 0x35C28A3B#32
  | 98 => 0xB5B0E6EF#32
  | 99 => 0x35A19018#32
  | 100 => 0xB5942572#32
  | 101 => 0x3588594C#32
  | 102 => 0xB57BD8F1#32
  | 103 => 0x35695670#32
  | 104 => 0xB558D5BB#32
  | 105 => 0x354A0FF9#32
  | 106 => 0xB53CCA00#32
  | 107 => 0x3530D21D#32
  | 108 => 0xB525FE56#32
  | 109 => 0x351C2B08#32
  | 110 => 0xB51339CD#32
  | 111 => 0x350B1097#32
  | 112 => 0xB50398F7#32
  | 113 => 0x34F97F13#32
  | 114 => 0xB4ECE6F7#32
  | 115 => 0x34E14C49#32
  | 116 => 0xB4D69568#32
  | 117 => 0x34CCABDA#32
  | 118 => 0xB4C37BD6#32
  | 119 => 0x34BAF3E5#32
  | 120 => 0xB4B30492#32
  | 121 => 0x34ABA023#32
  | 122 => 0xB4A4BA5F#32
  | 123 => 0x349E485F#32
  | 124 => 0xB4984061#32
  | 125 => 0x349299A5#32
  | 126 => 0xB48D4C4D#32
  | 127 => 0x34885143#32
  | _ => 0#32

noncomputable abbrev lit0t0_414 (i : Nat) : BitVec 32 := match i % 128 with
  | 0 => 0x34885143#32
  | 1 => 0xB483A221#32
  | 2 => 0x347E723F#32
  | 3 => 0xB4762200#32
  | 4 => 0x346E49FF#32
  | 5 => 0xB466E193#32
  | 6 => 0x345FE0DA#32
  | 7 => 0xB45940A1#32
  | 8 => 0x3452FA51#32
  | 9 => 0xB44D07E6#32
  | 10 => 0x344763DA#32
  | 11 => 0xB4420919#32
  | 12 => 0x343CF2FA#32
  | 13 => 0xB4381D32#32
  | 14 => 0x343383CC#32
  | 15 => 0xB42F2322#32
  | 16 => 0x342AF7D2#32
  | 17 => 0xB426FEBD#32
  | 18 => 0x342334FF#32
  | 19 => 0xB41F97EA#32
  | 20 => 0x341C2500#32
  | 21 => 0xB418D9F0#32
  | 22 => 0x3415B495#32
  | 23 => 0xB412B2ED#32
  | 24 => 0x340FD31A#32
  | 25 => 0xB40D1360#32
  | 26 => 0x340A721F#32
  | 27 => 0xB407EDD1#32
  | 28 => 0x3405850C#32
  | 29 => 0xB403367C#32
  | 30 => 0x340100E3#32
  | 31 => 0xB3FDC62E#32
  | 32 => 0x33F9B800#32
  | 33 => 0xB3F5D532#32
  | 34 => 0x33F21BD6#32
  | 35 => 0xB3EE8A1F#32
  | 36 => 0x33EB1E5A#32
  | 37 => 0xB3E7D6EF#32
  | 38 => 0x33E4B25D#32
  | 39 => 0xB3E1AF3D#32
  | 40 => 0x33DECC38#32
  | 41 => 0xB3DC0810#32
  | 42 => 0x33D96196#32
  | 43 => 0xB3D6D7AE#32
  | 44 => 0x33D4694B#32
  | 45 => 0xB3D21572#32
  | 46 => 0x33CFDB34#32
  | 47 => 0xB3CDB9B1#32
  | 48 => 0x33CBB015#32
  | 49 => 0xB3C9BD97#32
  | 50 => 0x33C7E17D#32
  | 51 => 0xB3C61B15#32
  | 52 => 0x33C469B8#32
  | 53 => 0xB3C2CCC7#32
  | 54 => 0x33C143B0#32
  | 55 => 0xB3BFCDE6#32
  | 56 => 0x33BE6AE7#32
  | 57 => 0xB3BD1A36#32
  | 58 => 0x33BBDB61#32
  | 59 => 0xB3BAADFB#32
  | 60 => 0x33B9919E#32
  | 61 => 0xB3B885EC#32
  | 62 => 0x33B78A8A#32
  | 63 => 0xB3B69F28#32
  | 64 => 0x33B5C377#32
  | 65 => 0xB3B4F732#32
  | 66 => 0x33B43A15#32
  | 67 => 0xB3B38BE5#32
  | 68 => 0x33B2EC6A#32
  | 69 => 0xB3B25B72#32
  | 70 => 0x33B1D8CF#32
  | 71 => 0xB3B16459#32
  | 72 => 0x33B0FDEA#32
  | 73 => 0xB3B0A563#32
  | 74 => 0x33B05AA9#32
  | 75 => 0xB3B01DA5#32
  | 76 => 0x33AFEE43#32
  | 77 => 0xB3AFCC75#32
  | 78 => 0x33AFB831#32
  | 79 => 0xB3AFB170#32
  | 80 => 0x33AFB831#32
  | 81 => 0xB3AFCC75#32
  | 82 => 0x33AFEE43#32
  | 83 => 0xB3B01DA5#32
  | 84 => 0x33B05AA9#32
  | 85 => 0xB3B0A563#32
  | 86 => 0x33B0FDEA#32
  | 87 => 0xB3B16459#32
  | 88 => 0x33B1D8CF#32
  | 89 => 0xB3B25B72#32
  | 90 => 0x33B2EC6A#32
  | 91 => 0xB3B38BE5#32
  | 92 => 0x33B43A15#32
  | 93 => 0xB3B4F732#32
  | 94 => 0x33B5C377#32
  | 95 => 0xB3B69F28#32
  | 96 => 0x33B78A8A#32
  | 97 => 0xB3B885EC#32
  | 98 => 0x33B9919E#32
  | 99 => 0xB3BAADFB#32
  | 100 => 0x33BBDB61#32
  | 101 => 0xB3BD1A36#32
  | 102 => 0x33BE6AE7#32
  | 103 => 0xB3BFCDE6#32
  | 104 => 0x33C143B0#32
  | 105 => 0xB3C2CCC7#32
  | 106 => 0x33C469B8#32
  | 107 => 0xB3C61B15#32
  | 108 => 0x33C7E17D#32
  | 109 => 0xB3C9BD97#32
  | 110 => 0x33CBB015#32
  | 111 => 0xB3CDB9B1#32
  | 112 => 0x33CFDB34#32
  | 113 => 0xB3D21572#32
  | 114 => 0x33D4694B#32
  | 115 => 0xB3D6D7AE#32
  | 116 => 0x33D96196#32
  | 117 => 0xB3DC0810#32
  | 118 => 0x33DECC38#32
  | 119 => 0xB3E1AF3D#32
  | 120 => 0x33E4B25D#32
  | 121 => 0xB3E7D6EF#32
  | 122 => 0x33EB1E5A#32
  | 123 => 0xB3EE8A1F#32
  | 124 => 0x33F21BD6#32
  | 125 => 0xB3F5D532#32
  | 126 => 0x33F9B800#32
  | 127 => 0xB3FDC62E#32
  | _ => 0#32

noncomputable abbrev lit0t0_415 (i : Nat) : BitVec 32 := match i % 128 with
  | 0 => 0x340100E3#32
  | 1 => 0xB403367C#32
  | 2 => 0x3405850C#32
  | 3 => 0xB407EDD1#32
  | 4 => 0x340A721F#32
  | 5 => 0xB40D1360#32
  | 6 => 0x340FD31A#32
  | 7 => 0xB412B2ED#32
  | 8 => 0x3415B495#32
  | 9 => 0xB418D9F0#32
  | 10 => 0x341C2500#32
  | 11 => 0xB41F97EA#32
  | 12 => 0x342334FF#32
  | 13 => 0xB426FEBD#32
  | 14 => 0x342AF7D2#32
  | 15 => 0xB42F2322#32
  | 16 => 0x343383CC#32
  | 17 => 0xB4381D32#32
  | 18 => 0x343CF2FA#32
  | 19 => 0xB4420919#32
  | 20 => 0x344763DA#32
  | 21 => 0xB44D07E6#32
  | 22 => 0x3452FA51#32
  | 23 => 0xB45940A1#32
  | 24 => 0x345FE0DA#32
  | 25 => 0xB466E193#32
  | 26 => 0x346E49FF#32
  | 27 => 0xB4762200#32
  | 28 => 0x347E723F#32
  | 29 => 0xB483A221#32
  | 30 => 0x34885142#32
  | 31 => 0xB48D4C4D#32
  | 32 => 0x349299A5#32
  | 33 => 0xB4984061#32
  | 34 => 0x349E485F#32
  | 35 => 0xB4A4BA5F#32
  | 36 => 0x34ABA023#32
  | 37 => 0xB4B30492#32
  | 38 => 0x34BAF3E5#32
  | 39 => 0xB4C37BD6#32
  | 40 => 0x34CCABDA#32
  | 41 => 0xB4D69568#32
  | 42 => 0x34E14C49#32
  | 43 => 0xB4ECE6F7#32
  | 44 => 0x34F97F13#32
  | 45 => 0xB50398F7#32
  | 46 => 0x350B1097#32
  | 47 => 0xB51339CD#32
  | 48 => 0x351C2B08#32
  | 49 => 0xB525FE56#32
  | 50 => 0x3530D21D#32
  | 51 => 0xB53CCA00#32
  | 52 => 0x354A0FF9#32
  | 53 => 0xB558D5BB#32
  | 54 => 0x35695670#32
  | 55 => 0xB57BD8F1#32
  | 56 => 0x3588594C#32
  | 57 => 0xB5942572#32
  | 58 => 0x35A19018#32
  | 59 => 0xB5B0E6EF#32
  | 60 => 0x35C28A3B#32
  | 61 => 0xB5D6F23A#32
  | 62 => 0x35EEB658#32
  | 63 => 0xB6054B76#32
  | 64 => 0x3615C529#32
  | 65 => 0xB6296767#32
  | 66 => 0x3641014B#32
  | 67 => 0xB65DA20C#32
  | 68 => 0x368056F2#32
  | 69 => 0xB695FBC4#32
  | 70 => 0x36B0ED61#32
  | 71 => 0xB6D29E9B#32
  | 72 => 0x36FFBDB2#32
  | 73 => 0xB692EE32#32
  | 74 => 0x391EBB1A#32
  | 75 => 0x3B12D0DF#32
  | 76 => 0x3CA0086D#32
  | 77 => 0x3DBAD58B#32
  | 78 => 0x3E6BB748#32
  | 79 => 0x3EA069FE#32
  | 80 => 0x3E6BB748#32
  | 81 => 0x3DBAD58B#32
  | 82 => 0x3CA0086D#32
  | 83 => 0x3B12D0DF#32
  | 84 => 0x391EBB1A#32
  | 85 => 0xB692EE32#32
  | 86 => 0x36FFBDB2#32
  | 87 => 0xB6D29E9B#32
  | 88 => 0x36B0ED61#32
  | 89 => 0xB695FBC4#32
  | 90 => 0x368056F2#32
  | 91 => 0xB65DA20C#32
  | 92 => 0x3641014B#32
  | 93 => 0xB6296767#32
  | 94 => 0x3615C529#32
  | 95 => 0xB6054B76#32
  | 96 => 0x35EEB658#32
  | 97 => 0xB5D6F23A#32
  | 98 => 0x35C28A3B#32
  | 99 => 0xB5B0E6EF#32
  | 100 => 0x35A19018#32
  | 101 => 0xB5942572#32
  | 102 => 0x3588594C#32
  | 103 => 0xB57BD8F1#32
  | 104 => 0x35695670#32
  | 105 => 0xB558D5BB#32
  | 106 => 0x354A0FF9#32
  | 107 => 0xB53CCA00#32
  | 108 => 0x3530D21D#32
  | 109 => 0xB525FE56#32
  | 110 => 0x351C2B08#32
  | 111 => 0xB51339CD#32
  | 112 => 0x350B1097#32
  | 113 => 0xB50398F7#32
  | 114 => 0x34F97F13#32
  | 115 => 0xB4ECE6F7#32
  | 116 => 0x34E14C49#32
  | 117 => 0xB4D69568#32
  | 118 => 0x34CCABDA#32
  | 119 => 0xB4C37BD6#32
  | 120 => 0x34BAF3E5#32
  | 121 => 0xB4B30492#32
  | 122 => 0x34ABA023#32
  | 123 => 0xB4A4BA5F#32
  | 124 => 0x349E485F#32
  | 125 => 0xB4984061#32
  | 126 => 0x349299A5#32
  | 127 => 0xB48D4C4D#32
  | _ => 0#32

noncomputable abbrev lit0t0_416 (i : Nat) : BitVec 32 := match i % 128 with
  | 0 => 0xB48D4C4D#32
  | 1 => 0x34885143#32
  | 2 => 0xB483A221#32
  | 3 => 0x347E723F#32
  | 4 => 0xB4762200#32
  | 5 => 0x346E49FF#32
  | 6 => 0xB466E193#32
  | 7 => 0x345FE0DA#32
  | 8 => 0xB45940A1#32
  | 9 => 0x3452FA51#32
  | 10 => 0xB44D07E6#32
  | 11 => 0x344763DA#32
  | 12 => 0xB4420919#32
  | 13 => 0x343CF2FA#32
  | 14 => 0xB4381D32#32
  | 15 => 0x343383CC#32
  | 16 => 0xB42F2322#32
  | 17 => 0x342AF7D2#32
  | 18 => 0xB426FEBD#32
  | 19 => 0x342334FF#32
  | 20 => 0xB41F97EA#32
  | 21 => 0x341C2500#32
  | 22 => 0xB418D9F0#32
  | 23 => 0x3415B495#32
  | 24 => 0xB412B2ED#32
  | 25 => 0x340FD31A#32
  | 26 => 0xB40D1360#32
  | 27 => 0x340A721F#32
  | 28 => 0xB407EDD1#32
  | 29 => 0x3405850C#32
  | 30 => 0xB403367C#32
  | 31 => 0x340100E3#32
  | 32 => 0xB3FDC62E#32
  | 33 => 0x33F9B800#32
  | 34 => 0xB3F5D532#32
  | 35 => 0x33F21BD6#32
  | 36 => 0xB3EE8A1F#32
  | 37 => 0x33EB1E5A#32
  | 38 => 0xB3E7D6EF#32
  | 39 => 0x33E4B25D#32
  | 40 => 0xB3E1AF3D#32
  | 41 => 0x33DECC38#32
  | 42 => 0xB3DC0810#32
  | 43 => 0x33D96196#32
  | 44 => 0xB3D6D7AE#32
  | 45 => 0x33D4694B#32
  | 46 => 0xB3D21572#32
  | 47 => 0x33CFDB34#32
  | 48 => 0xB3CDB9B1#32
  | 49 => 0x33CBB015#32
  | 50 => 0xB3C9BD97#32
  | 51 => 0x33C7E17D#32
  | 52 => 0xB3C61B15#32
  | 53 => 0x33C469B8#32
  | 54 => 0xB3C2CCC7#32
  | 55 => 0x33C143B0#32
  | 56 => 0xB3BFCDE6#32
  | 57 => 0x33BE6AE7#32
  | 58 => 0xB3BD1A36#32
  | 59 => 0x33BBDB61#32
  | 60 => 0xB3BAADFB#32
  | 61 => 0x33B9919E#32
  | 62 => 0xB3B885EC#32
  | 63 => 0x33B78A8A#32
  | 64 => 0xB3B69F28#32
  | 65 => 0x33B5C377#32
  | 66 => 0xB3B4F732#32
  | 67 => 0x33B43A15#32
  | 68 => 0xB3B38BE5#32
  | 69 => 0x33B2EC6A#32
  | 70 => 0xB3B25B72#32
  | 71 => 0x33B1D8CF#32
  | 72 => 0xB3B16459#32
  | 73 => 0x33B0FDEA#32
  | 74 => 0xB3B0A563#32
  | 75 => 0x33B05AA9#32
  | 76 => 0xB3B01DA5#32
  | 77 => 0x33AFEE43#32
  | 78 => 0xB3AFCC75#32
  | 79 => 0x33AFB831#32
  | 80 => 0xB3AFB170#32
  | 81 => 0x33AFB831#32
  | 82 => 0xB3AFCC75#32
  | 83 => 0x33AFEE43#32
  | 84 => 0xB3B01DA5#32
  | 85 => 0x33B05AA9#32
  | 86 => 0xB3B0A563#32
  | 87 => 0x33B0FDEA#32
  | 88 => 0xB3B16459#32
  | 89 => 0x33B1D8CF#32
  | 90 => 0xB3B25B72#32
  | 91 => 0x33B2EC6A#32
  | 92 => 0xB3B38BE5#32
  | 93 => 0x33B43A15#32
  | 94 => 0xB3B4F732#32
  | 95 => 0x33B5C377#32
  | 96 => 0xB3B69F28#32
  | 97 => 0x33B78A8A#32
  | 98 => 0xB3B885EC#32
  | 99 => 0x33B9919E#32
  | 100 => 0xB3BAADFB#32
  | 101 => 0x33BBDB61#32
  | 102 => 0xB3BD1A36#32
  | 103 => 0x33BE6AE7#32
  | 104 => 0xB3BFCDE6#32
  | 105 => 0x33C143B0#32
  | 106 => 0xB3C2CCC7#32
  | 107 => 0x33C469B8#32
  | 108 => 0xB3C61B15#32
  | 109 => 0x33C7E17D#32
  | 110 => 0xB3C9BD97#32
  | 111 => 0x33CBB015#32
  | 112 => 0xB3CDB9B1#32
  | 113 => 0x33CFDB34#32
  | 114 => 0xB3D21572#32
  | 115 => 0x33D4694B#32
  | 116 => 0xB3D6D7AE#32
  | 117 => 0x33D96196#32
  | 118 => 0xB3DC0810#32
  | 119 => 0x33DECC38#32
  | 120 => 0xB3E1AF3D#32
  | 121 => 0x33E4B25D#32
  | 122 => 0xB3E7D6EF#32
  | 123 => 0x33EB1E5A#32
  | 124 => 0xB3EE8A1F#32
  | 125 => 0x33F21BD6#32
  | 126 => 0xB3F5D532#32
  | 127 => 0x33F9B800#32
  | _ => 0#32

noncomputable abbrev lit0t0_417 (i : Nat) : BitVec 32 := match i % 128 with
  | 0 => 0xB3FDC62E#32
  | 1 => 0x340100E3#32
  | 2 => 0xB403367C#32
  | 3 => 0x3405850C#32
  | 4 => 0xB407EDD1#32
  | 5 => 0x340A721F#32
  | 6 => 0xB40D1360#32
  | 7 => 0x340FD31A#32
  | 8 => 0xB412B2ED#32
  | 9 => 0x3415B495#32
  | 10 => 0xB418D9F0#32
  | 11 => 0x341C2500#32
  | 12 => 0xB41F97EA#32
  | 13 => 0x342334FF#32
  | 14 => 0xB426FEBD#32
  | 15 => 0x342AF7D2#32
  | 16 => 0xB42F2322#32
  | 17 => 0x343383CC#32
  | 18 => 0xB4381D32#32
  | 19 => 0x343CF2FA#32
  | 20 => 0xB4420919#32
  | 21 => 0x344763DA#32
  | 22 => 0xB44D07E6#32
  | 23 => 0x3452FA51#32
  | 24 => 0xB45940A1#32
  | 25 => 0x345FE0DA#32
  | 26 => 0xB466E193#32
  | 27 => 0x346E49FF#32
  | 28 => 0xB4762200#32
  | 29 => 0x347E723F#32
  | 30 => 0xB483A221#32
  | 31 => 0x34885143#32
  | 32 => 0xB48D4C4D#32
  | 33 => 0x349299A5#32
  | 34 => 0xB4984061#32
  | 35 => 0x349E485F#32
  | 36 => 0xB4A4BA5F#32
  | 37 => 0x34ABA023#32
  | 38 => 0xB4B30492#32
  | 39 => 0x34BAF3E5#32
  | 40 => 0xB4C37BD6#32
  | 41 => 0x34CCABDA#32
  | 42 => 0xB4D69568#32
  | 43 => 0x34E14C49#32
  | 44 => 0xB4ECE6F7#32
  | 45 => 0x34F97F13#32
  | 46 => 0xB50398F7#32
  | 47 => 0x350B1097#32
  | 48 => 0xB51339CD#32
  | 49 => 0x351C2B08#32
  | 50 => 0xB525FE56#32
  | 51 => 0x3530D21D#32
  | 52 => 0xB53CCA00#32
  | 53 => 0x354A0FF9#32
  | 54 => 0xB558D5BB#32
  | 55 => 0x35695670#32
  | 56 => 0xB57BD8F1#32
  | 57 => 0x3588594C#32
  | 58 => 0xB5942572#32
  | 59 => 0x35A19018#32
  | 60 => 0xB5B0E6EF#32
  | 61 => 0x35C28A3B#32
  | 62 => 0xB5D6F23A#32
  | 63 => 0x35EEB658#32
  | 64 => 0xB6054B76#32
  | 65 => 0x3615C529#32
  | 66 => 0xB6296767#32
  | 67 => 0x3641014B#32
  | 68 => 0xB65DA20C#32
  | 69 => 0x368056F2#32
  | 70 => 0xB695FBC4#32
  | 71 => 0x36B0ED61#32
  | 72 => 0xB6D29E9B#32
  | 73 => 0x36FFBDB2#32
  | 74 => 0xB692EE32#32
  | 75 => 0x391EBB1A#32
  | 76 => 0x3B12D0DF#32
  | 77 => 0x3CA0086D#32
  | 78 => 0x3DBAD58B#32
  | 79 => 0x3E6BB748#32
  | 80 => 0x3EA069FE#32
  | 81 => 0x3E6BB748#32
  | 82 => 0x3DBAD58B#32
  | 83 => 0x3CA0086D#32
  | 84 => 0x3B12D0DF#32
  | 85 => 0x391EBB1A#32
  | 86 => 0xB692EE32#32
  | 87 => 0x36FFBDB2#32
  | 88 => 0xB6D29E9B#32
  | 89 => 0x36B0ED61#32
  | 90 => 0xB695FBC4#32
  | 91 => 0x368056F2#32
  | 92 => 0xB65DA20C#32
  | 93 => 0x3641014B#32
  | 94 => 0xB6296767#32
  | 95 => 0x3615C529#32
  | 96 => 0xB6054B76#32
  | 97 => 0x35EEB658#32
  | 98 => 0xB5D6F23A#32
  | 99 => 0x35C28A3B#32
  | 100 => 0xB5B0E6EF#32
  | 101 => 0x35A19018#32
  | 102 => 0xB5942572#32
  | 103 => 0x3588594C#32
  | 104 => 0xB57BD8F1#32
  | 105 => 0x35695670#32
  | 106 => 0xB558D5BB#32
  | 107 => 0x354A0FF9#32
  | 108 => 0xB53CCA00#32
  | 109 => 0x3530D21D#32
  | 110 => 0xB525FE56#32
  | 111 => 0x351C2B08#32
  | 112 => 0xB51339CD#32
  | 113 => 0x350B1097#32
  | 114 => 0xB50398F7#32
  | 115 => 0x34F97F13#32
  | 116 => 0xB4ECE6F7#32
  | 117 => 0x34E14C49#32
  | 118 => 0xB4D69568#32
  | 119 => 0x34CCABDA#32
  | 120 => 0xB4C37BD6#32
  | 121 => 0x34BAF3E5#32
  | 122 => 0xB4B30492#32
  | 123 => 0x34ABA023#32
  | 124 => 0xB4A4BA5F#32
  | 125 => 0x349E485F#32
  | 126 => 0xB4984061#32
  | 127 => 0x349299A5#32
  | _ => 0#32

noncomputable abbrev lit0t0_418 (i : Nat) : BitVec 32 := match i % 128 with
  | 0 => 0x349299A5#32
  | 1 => 0xB48D4C4D#32
  | 2 => 0x34885143#32
  | 3 => 0xB483A221#32
  | 4 => 0x347E723F#32
  | 5 => 0xB4762200#32
  | 6 => 0x346E49FF#32
  | 7 => 0xB466E193#32
  | 8 => 0x345FE0DA#32
  | 9 => 0xB45940A1#32
  | 10 => 0x3452FA51#32
  | 11 => 0xB44D07E6#32
  | 12 => 0x344763DA#32
  | 13 => 0xB4420919#32
  | 14 => 0x343CF2FA#32
  | 15 => 0xB4381D32#32
  | 16 => 0x343383CC#32
  | 17 => 0xB42F2322#32
  | 18 => 0x342AF7D2#32
  | 19 => 0xB426FEBD#32
  | 20 => 0x342334FF#32
  | 21 => 0xB41F97EA#32
  | 22 => 0x341C2500#32
  | 23 => 0xB418D9F0#32
  | 24 => 0x3415B495#32
  | 25 => 0xB412B2ED#32
  | 26 => 0x340FD31A#32
  | 27 => 0xB40D1360#32
  | 28 => 0x340A721F#32
  | 29 => 0xB407EDD1#32
  | 30 => 0x3405850C#32
  | 31 => 0xB403367C#32
  | 32 => 0x340100E3#32
  | 33 => 0xB3FDC62E#32
  | 34 => 0x33F9B800#32
  | 35 => 0xB3F5D532#32
  | 36 => 0x33F21BD6#32
  | 37 => 0xB3EE8A1F#32
  | 38 => 0x33EB1E5A#32
  | 39 => 0xB3E7D6EF#32
  | 40 => 0x33E4B25D#32
  | 41 => 0xB3E1AF3D#32
  | 42 => 0x33DECC38#32
  | 43 => 0xB3DC0810#32
  | 44 => 0x33D96196#32
  | 45 => 0xB3D6D7AE#32
  | 46 => 0x33D4694B#32
  | 47 => 0xB3D21572#32
  | 48 => 0x33CFDB34#32
  | 49 => 0xB3CDB9B1#32
  | 50 => 0x33CBB015#32
  | 51 => 0xB3C9BD97#32
  | 52 => 0x33C7E17D#32
  | 53 => 0xB3C61B15#32
  | 54 => 0x33C469B8#32
  | 55 => 0xB3C2CCC7#32
  | 56 => 0x33C143B0#32
  | 57 => 0xB3BFCDE6#32
  | 58 => 0x33BE6AE7#32
  | 59 => 0xB3BD1A36#32
  | 60 => 0x33BBDB61#32
  | 61 => 0xB3BAADFB#32
  | 62 => 0x33B9919E#32
  | 63 => 0xB3B885EC#32
  | 64 => 0x33B78A8A#32
  | 65 => 0xB3B69F28#32
  | 66 => 0x33B5C377#32
  | 67 => 0xB3B4F732#32
  | 68 => 0x33B43A15#32
  | 69 => 0xB3B38BE5#32
  | 70 => 0x33B2EC6A#32
  | 71 => 0xB3B25B72#32
  | 72 => 0x33B1D8CF#32
  | 73 => 0xB3B16459#32
  | 74 => 0x33B0FDEA#32
  | 75 => 0xB3B0A563#32
  | 76 => 0x33B05AA9#32
  | 77 => 0xB3B01DA5#32
  | 78 => 0x33AFEE43#32
  | 79 => 0xB3AFCC75#32
  | 80 => 0x33AFB831#32
  | 81 => 0xB3AFB170#32
  | 82 => 0x33AFB831#32
  | 83 => 0xB3AFCC75#32
  | 84 => 0x33AFEE43#32
  | 85 => 0xB3B01DA5#32
  | 86 => 0x33B05AA9#32
  | 87 => 0xB3B0A563#32
  | 88 => 0x33B0FDEA#32
  | 89 => 0xB3B16459#32
  | 90 => 0x33B1D8CF#32
  | 91 => 0xB3B25B72#32
  | 92 => 0x33B2EC6A#32
  | 93 => 0xB3B38BE5#32
  | 94 => 0x33B43A15#32
  | 95 => 0xB3B4F732#32
  | 96 => 0x33B5C377#32
  | 97 => 0xB3B69F28#32
  | 98 => 0x33B78A8A#32
  | 99 => 0xB3B885EC#32
  | 100 => 0x33B9919E#32
  | 101 => 0xB3BAADFB#32
  | 102 => 0x33BBDB61#32
  | 103 => 0xB3BD1A36#32
  | 104 => 0x33BE6AE7#32
  | 105 => 0xB3BFCDE6#32
  | 106 => 0x33C143B0#32
  | 107 => 0xB3C2CCC7#32
  | 108 => 0x33C469B8#32
  | 109 => 0xB3C61B15#32
  | 110 => 0x33C7E17D#32
  | 111 => 0xB3C9BD97#32
  | 112 => 0x33CBB015#32
  | 113 => 0xB3CDB9B1#32
  | 114 => 0x33CFDB34#32
  | 115 => 0xB3D21572#32
  | 116 => 0x33D4694B#32
  | 117 => 0xB3D6D7AE#32
  | 118 => 0x33D96196#32
  | 119 => 0xB3DC0810#32
  | 120 => 0x33DECC38#32
  | 121 => 0xB3E1AF3D#32
  | 122 => 0x33E4B25D#32
  | 123 => 0xB3E7D6EF#32
  | 124 => 0x33EB1E5A#32
  | 125 => 0xB3EE8A1F#32
  | 126 => 0x33F21BD6#32
  | 127 => 0xB3F5D532#32
  | _ => 0#32

noncomputable abbrev lit0t0_419 (i : Nat) : BitVec 32 := match i % 128 with
  | 0 => 0x33F9B800#32
  | 1 => 0xB3FDC62E#32
  | 2 => 0x340100E3#32
  | 3 => 0xB403367C#32
  | 4 => 0x3405850C#32
  | 5 => 0xB407EDD1#32
  | 6 => 0x340A721F#32
  | 7 => 0xB40D1360#32
  | 8 => 0x340FD31A#32
  | 9 => 0xB412B2ED#32
  | 10 => 0x3415B495#32
  | 11 => 0xB418D9F0#32
  | 12 => 0x341C2500#32
  | 13 => 0xB41F97EA#32
  | 14 => 0x342334FF#32
  | 15 => 0xB426FEBD#32
  | 16 => 0x342AF7D2#32
  | 17 => 0xB42F2322#32
  | 18 => 0x343383CC#32
  | 19 => 0xB4381D32#32
  | 20 => 0x343CF2FA#32
  | 21 => 0xB4420919#32
  | 22 => 0x344763DA#32
  | 23 => 0xB44D07E6#32
  | 24 => 0x3452FA51#32
  | 25 => 0xB45940A1#32
  | 26 => 0x345FE0DA#32
  | 27 => 0xB466E193#32
  | 28 => 0x346E49FF#32
  | 29 => 0xB4762200#32
  | 30 => 0x347E723F#32
  | 31 => 0xB483A221#32
  | 32 => 0x34885143#32
  | 33 => 0xB48D4C4D#32
  | 34 => 0x349299A5#32
  | 35 => 0xB4984061#32
  | 36 => 0x349E485F#32
  | 37 => 0xB4A4BA5F#32
  | 38 => 0x34ABA023#32
  | 39 => 0xB4B30492#32
  | 40 => 0x34BAF3E5#32
  | 41 => 0xB4C37BD6#32
  | 42 => 0x34CCABDA#32
  | 43 => 0xB4D69568#32
  | 44 => 0x34E14C49#32
  | 45 => 0xB4ECE6F7#32
  | 46 => 0x34F97F13#32
  | 47 => 0xB50398F7#32
  | 48 => 0x350B1097#32
  | 49 => 0xB51339CD#32
  | 50 => 0x351C2B08#32
  | 51 => 0xB525FE56#32
  | 52 => 0x3530D21D#32
  | 53 => 0xB53CCA00#32
  | 54 => 0x354A0FF9#32
  | 55 => 0xB558D5BB#32
  | 56 => 0x35695670#32
  | 57 => 0xB57BD8F1#32
  | 58 => 0x3588594C#32
  | 59 => 0xB5942572#32
  | 60 => 0x35A19018#32
  | 61 => 0xB5B0E6EF#32
  | 62 => 0x35C28A3B#32
  | 63 => 0xB5D6F23A#32
  | 64 => 0x35EEB658#32
  | 65 => 0xB6054B76#32
  | 66 => 0x3615C529#32
  | 67 => 0xB6296767#32
  | 68 => 0x3641014B#32
  | 69 => 0xB65DA20C#32
  | 70 => 0x368056F2#32
  | 71 => 0xB695FBC4#32
  | 72 => 0x36B0ED61#32
  | 73 => 0xB6D29E9B#32
  | 74 => 0x36FFBDB2#32
  | 75 => 0xB692EE32#32
  | 76 => 0x391EBB1A#32
  | 77 => 0x3B12D0DF#32
  | 78 => 0x3CA0086D#32
  | 79 => 0x3DBAD58B#32
  | 80 => 0x3E6BB748#32
  | 81 => 0x3EA069FE#32
  | 82 => 0x3E6BB748#32
  | 83 => 0x3DBAD58B#32
  | 84 => 0x3CA0086D#32
  | 85 => 0x3B12D0DF#32
  | 86 => 0x391EBB1A#32
  | 87 => 0xB692EE32#32
  | 88 => 0x36FFBDB2#32
  | 89 => 0xB6D29E9B#32
  | 90 => 0x36B0ED61#32
  | 91 => 0xB695FBC4#32
  | 92 => 0x368056F2#32
  | 93 => 0xB65DA20C#32
  | 94 => 0x3641014B#32
  | 95 => 0xB6296767#32
  | 96 => 0x3615C529#32
  | 97 => 0xB6054B76#32
  | 98 => 0x35EEB658#32
  | 99 => 0xB5D6F23A#32
  | 100 => 0x35C28A3B#32
  | 101 => 0xB5B0E6EF#32
  | 102 => 0x35A19018#32
  | 103 => 0xB5942572#32
  | 104 => 0x3588594C#32
  | 105 => 0xB57BD8F1#32
  | 106 => 0x35695670#32
  | 107 => 0xB558D5BB#32
  | 108 => 0x354A0FF9#32
  | 109 => 0xB53CCA00#32
  | 110 => 0x3530D21D#32
  | 111 => 0xB525FE56#32
  | 112 => 0x351C2B08#32
  | 113 => 0xB51339CD#32
  | 114 => 0x350B1097#32
  | 115 => 0xB50398F7#32
  | 116 => 0x34F97F13#32
  | 117 => 0xB4ECE6F7#32
  | 118 => 0x34E14C49#32
  | 119 => 0xB4D69568#32
  | 120 => 0x34CCABDA#32
  | 121 => 0xB4C37BD6#32
  | 122 => 0x34BAF3E5#32
  | 123 => 0xB4B30492#32
  | 124 => 0x34ABA023#32
  | 125 => 0xB4A4BA5F#32
  | 126 => 0x349E485F#32
  | 127 => 0xB4984061#32
  | _ => 0#32

noncomputable abbrev lit0t0_420 (i : Nat) : BitVec 32 := match i % 128 with
  | 0 => 0xB4984061#32
  | 1 => 0x349299A5#32
  | 2 => 0xB48D4C4D#32
  | 3 => 0x34885143#32
  | 4 => 0xB483A221#32
  | 5 => 0x347E723F#32
  | 6 => 0xB4762200#32
  | 7 => 0x346E49FF#32
  | 8 => 0xB466E193#32
  | 9 => 0x345FE0DA#32
  | 10 => 0xB45940A1#32
  | 11 => 0x3452FA51#32
  | 12 => 0xB44D07E6#32
  | 13 => 0x344763DA#32
  | 14 => 0xB4420919#32
  | 15 => 0x343CF2FA#32
  | 16 => 0xB4381D32#32
  | 17 => 0x343383CC#32
  | 18 => 0xB42F2322#32
  | 19 => 0x342AF7D2#32
  | 20 => 0xB426FEBD#32
  | 21 => 0x342334FF#32
  | 22 => 0xB41F97EA#32
  | 23 => 0x341C2500#32
  | 24 => 0xB418D9F0#32
  | 25 => 0x3415B495#32
  | 26 => 0xB412B2ED#32
  | 27 => 0x340FD31A#32
  | 28 => 0xB40D1360#32
  | 29 => 0x340A721F#32
  | 30 => 0xB407EDD1#32
  | 31 => 0x3405850C#32
  | 32 => 0xB403367C#32
  | 33 => 0x340100E3#32
  | 34 => 0xB3FDC62E#32
  | 35 => 0x33F9B800#32
  | 36 => 0xB3F5D532#32
  | 37 => 0x33F21BD6#32
  | 38 => 0xB3EE8A1F#32
  | 39 => 0x33EB1E5A#32
  | 40 => 0xB3E7D6EF#32
  | 41 => 0x33E4B25D#32
  | 42 => 0xB3E1AF3D#32
  | 43 => 0x33DECC38#32
  | 44 => 0xB3DC0810#32
  | 45 => 0x33D96196#32
  | 46 => 0xB3D6D7AE#32
  | 47 => 0x33D4694B#32
  | 48 => 0xB3D21572#32
  | 49 => 0x33CFDB34#32
  | 50 => 0xB3CDB9B1#32
  | 51 => 0x33CBB015#32
  | 52 => 0xB3C9BD97#32
  | 53 => 0x33C7E17D#32
  | 54 => 0xB3C61B15#32
  | 55 => 0x33C469B8#32
  | 56 => 0xB3C2CCC7#32
  | 57 => 0x33C143B0#32
  | 58 => 0xB3BFCDE6#32
  | 59 => 0x33BE6AE7#32
  | 60 => 0xB3BD1A36#32
  | 61 => 0x33BBDB61#32
  | 62 => 0xB3BAADFB#32
  | 63 => 0x33B9919E#32
  | 64 => 0xB3B885EC#32
  | 65 => 0x33B78A8A#32
  | 66 => 0xB3B69F28#32
  | 67 => 0x33B5C377#32
  | 68 => 0xB3B4F732#32
  | 69 => 0x33B43A15#32
  | 70 => 0xB3B38BE5#32
  | 71 => 0x33B2EC6A#32
  | 72 => 0xB3B25B72#32
  | 73 => 0x33B1D8CF#32
  | 74 => 0xB3B16459#32
  | 75 => 0x33B0FDEA#32
  | 76 => 0xB3B0A563#32
  | 77 => 0x33B05AA9#32
  | 78 => 0xB3B01DA5#32
  | 79 => 0x33AFEE43#32
  | 80 => 0xB3AFCC75#32
  | 81 => 0x33AFB831#32
  | 82 => 0xB3AFB170#32
  | 83 => 0x33AFB831#32
  | 84 => 0xB3AFCC75#32
  | 85 => 0x33AFEE43#32
  | 86 => 0xB3B01DA5#32
  | 87 => 0x33B05AA9#32
  | 88 => 0xB3B0A563#32
  | 89 => 0x33B0FDEA#32
  | 90 => 0xB3B16459#32
  | 91 => 0x33B1D8CF#32
  | 92 => 0xB3B25B72#32
  | 93 => 0x33B2EC6A#32
  | 94 => 0xB3B38BE5#32
  | 95 => 0x33B43A15#32
  | 96 => 0xB3B4F732#32
  | 97 => 0x33B5C377#32
  | 98 => 0xB3B69F28#32
  | 99 => 0x33B78A8A#32
  | 100 => 0xB3B885EC#32
  | 101 => 0x33B9919E#32
  | 102 => 0xB3BAADFB#32
  | 103 => 0x33BBDB61#32
  | 104 => 0xB3BD1A36#32
  | 105 => 0x33BE6AE7#32
  | 106 => 0xB3BFCDE6#32
  | 107 => 0x33C143B0#32
  | 108 => 0xB3C2CCC7#32
  | 109 => 0x33C469B8#32
  | 110 => 0xB3C61B15#32
  | 111 => 0x33C7E17D#32
  | 112 => 0xB3C9BD97#32
  | 113 => 0x33CBB015#32
  | 114 => 0xB3CDB9B1#32
  | 115 => 0x33CFDB34#32
  | 116 => 0xB3D21572#32
  | 117 => 0x33D4694B#32
  | 118 => 0xB3D6D7AE#32
  | 119 => 0x33D96196#32
  | 120 => 0xB3DC0810#32
  | 121 => 0x33DECC38#32
  | 122 => 0xB3E1AF3D#32
  | 123 => 0x33E4B25D#32
  | 124 => 0xB3E7D6EF#32
  | 125 => 0x33EB1E5A#32
  | 126 => 0xB3EE8A1F#32
  | 127 => 0x33F21BD6#32
  | _ => 0#32

noncomputable abbrev lit0t0_421 (i : Nat) : BitVec 32 := match i % 128 with
  | 0 => 0xB3F5D532#32
  | 1 => 0x33F9B800#32
  | 2 => 0xB3FDC62E#32
  | 3 => 0x340100E3#32
  | 4 => 0xB403367C#32
  | 5 => 0x3405850C#32
  | 6 => 0xB407EDD1#32
  | 7 => 0x340A721F#32
  | 8 => 0xB40D1360#32
  | 9 => 0x340FD31A#32
  | 10 => 0xB412B2ED#32
  | 11 => 0x3415B495#32
  | 12 => 0xB418D9F0#32
  | 13 => 0x341C2500#32
  | 14 => 0xB41F97EA#32
  | 15 => 0x342334FF#32
  | 16 => 0xB426FEBD#32
  | 17 => 0x342AF7D2#32
  | 18 => 0xB42F2322#32
  | 19 => 0x343383CC#32
  | 20 => 0xB4381D32#32
  | 21 => 0x343CF2FA#32
  | 22 => 0xB4420919#32
  | 23 => 0x344763DA#32
  | 24 => 0xB44D07E6#32
  | 25 => 0x3452FA51#32
  | 26 => 0xB45940A1#32
  | 27 => 0x345FE0DA#32
  | 28 => 0xB466E193#32
  | 29 => 0x346E49FF#32
  | 30 => 0xB4762200#32
  | 31 => 0x347E723F#32
  | 32 => 0xB483A221#32
  | 33 => 0x34885143#32
  | 34 => 0xB48D4C4D#32
  | 35 => 0x349299A5#32
  | 36 => 0xB4984061#32
  | 37 => 0x349E485F#32
  | 38 => 0xB4A4BA5F#32
  | 39 => 0x34ABA023#32
  | 40 => 0xB4B30492#32
  | 41 => 0x34BAF3E5#32
  | 42 => 0xB4C37BD6#32
  | 43 => 0x34CCABDA#32
  | 44 => 0xB4D69568#32
  | 45 => 0x34E14C49#32
  | 46 => 0xB4ECE6F7#32
  | 47 => 0x34F97F13#32
  | 48 => 0xB50398F7#32
  | 49 => 0x350B1097#32
  | 50 => 0xB51339CD#32
  | 51 => 0x351C2B08#32
  | 52 => 0xB525FE56#32
  | 53 => 0x3530D21D#32
  | 54 => 0xB53CCA00#32
  | 55 => 0x354A0FF9#32
  | 56 => 0xB558D5BB#32
  | 57 => 0x35695670#32
  | 58 => 0xB57BD8F1#32
  | 59 => 0x3588594C#32
  | 60 => 0xB5942572#32
  | 61 => 0x35A19018#32
  | 62 => 0xB5B0E6EF#32
  | 63 => 0x35C28A3B#32
  | 64 => 0xB5D6F23A#32
  | 65 => 0x35EEB658#32
  | 66 => 0xB6054B76#32
  | 67 => 0x3615C529#32
  | 68 => 0xB6296767#32
  | 69 => 0x3641014B#32
  | 70 => 0xB65DA20C#32
  | 71 => 0x368056F2#32
  | 72 => 0xB695FBC4#32
  | 73 => 0x36B0ED61#32
  | 74 => 0xB6D29E9B#32
  | 75 => 0x36FFBDB2#32
  | 76 => 0xB692EE32#32
  | 77 => 0x391EBB1A#32
  | 78 => 0x3B12D0DF#32
  | 79 => 0x3CA0086D#32
  | 80 => 0x3DBAD58B#32
  | 81 => 0x3E6BB748#32
  | 82 => 0x3EA069FE#32
  | 83 => 0x3E6BB748#32
  | 84 => 0x3DBAD58B#32
  | 85 => 0x3CA0086D#32
  | 86 => 0x3B12D0DF#32
  | 87 => 0x391EBB1A#32
  | 88 => 0xB692EE32#32
  | 89 => 0x36FFBDB2#32
  | 90 => 0xB6D29E9B#32
  | 91 => 0x36B0ED61#32
  | 92 => 0xB695FBC4#32
  | 93 => 0x368056F2#32
  | 94 => 0xB65DA20C#32
  | 95 => 0x3641014B#32
  | 96 => 0xB6296767#32
  | 97 => 0x3615C529#32
  | 98 => 0xB6054B76#32
  | 99 => 0x35EEB658#32
  | 100 => 0xB5D6F23A#32
  | 101 => 0x35C28A3B#32
  | 102 => 0xB5B0E6EF#32
  | 103 => 0x35A19018#32
  | 104 => 0xB5942572#32
  | 105 => 0x3588594C#32
  | 106 => 0xB57BD8F1#32
  | 107 => 0x35695670#32
  | 108 => 0xB558D5BB#32
  | 109 => 0x354A0FF9#32
  | 110 => 0xB53CCA00#32
  | 111 => 0x3530D21D#32
  | 112 => 0xB525FE56#32
  | 113 => 0x351C2B08#32
  | 114 => 0xB51339CD#32
  | 115 => 0x350B1097#32
  | 116 => 0xB50398F7#32
  | 117 => 0x34F97F13#32
  | 118 => 0xB4ECE6F7#32
  | 119 => 0x34E14C49#32
  | 120 => 0xB4D69568#32
  | 121 => 0x34CCABDA#32
  | 122 => 0xB4C37BD6#32
  | 123 => 0x34BAF3E5#32
  | 124 => 0xB4B30492#32
  | 125 => 0x34ABA023#32
  | 126 => 0xB4A4BA5F#32
  | 127 => 0x349E485F#32
  | _ => 0#32

noncomputable abbrev lit0t0_422 (i : Nat) : BitVec 32 := match i % 128 with
  | 0 => 0x349E485F#32
  | 1 => 0xB4984061#32
  | 2 => 0x349299A5#32
  | 3 => 0xB48D4C4D#32
  | 4 => 0x34885143#32
  | 5 => 0xB483A221#32
  | 6 => 0x347E723F#32
  | 7 => 0xB4762200#32
  | 8 => 0x346E49FF#32
  | 9 => 0xB466E193#32
  | 10 => 0x345FE0DA#32
  | 11 => 0xB45940A1#32
  | 12 => 0x3452FA51#32
  | 13 => 0xB44D07E6#32
  | 14 => 0x344763DA#32
  | 15 => 0xB4420919#32
  | 16 => 0x343CF2FA#32
  | 17 => 0xB4381D32#32
  | 18 => 0x343383CC#32
  | 19 => 0xB42F2322#32
  | 20 => 0x342AF7D2#32
  | 21 => 0xB426FEBD#32
  | 22 => 0x342334FF#32
  | 23 => 0xB41F97EA#32
  | 24 => 0x341C2500#32
  | 25 => 0xB418D9F0#32
  | 26 => 0x3415B495#32
  | 27 => 0xB412B2ED#32
  | 28 => 0x340FD31A#32
  | 29 => 0xB40D1360#32
  | 30 => 0x340A721F#32
  | 31 => 0xB407EDD1#32
  | 32 => 0x3405850C#32
  | 33 => 0xB403367C#32
  | 34 => 0x340100E3#32
  | 35 => 0xB3FDC62E#32
  | 36 => 0x33F9B800#32
  | 37 => 0xB3F5D532#32
  | 38 => 0x33F21BD6#32
  | 39 => 0xB3EE8A1F#32
  | 40 => 0x33EB1E5A#32
  | 41 => 0xB3E7D6EF#32
  | 42 => 0x33E4B25D#32
  | 43 => 0xB3E1AF3D#32
  | 44 => 0x33DECC38#32
  | 45 => 0xB3DC0810#32
  | 46 => 0x33D96196#32
  | 47 => 0xB3D6D7AE#32
  | 48 => 0x33D4694B#32
  | 49 => 0xB3D21572#32
  | 50 => 0x33CFDB34#32
  | 51 => 0xB3CDB9B1#32
  | 52 => 0x33CBB015#32
  | 53 => 0xB3C9BD97#32
  | 54 => 0x33C7E17D#32
  | 55 => 0xB3C61B15#32
  | 56 => 0x33C469B8#32
  | 57 => 0xB3C2CCC7#32
  | 58 => 0x33C143B0#32
  | 59 => 0xB3BFCDE6#32
  | 60 => 0x33BE6AE7#32
  | 61 => 0xB3BD1A36#32
  | 62 => 0x33BBDB61#32
  | 63 => 0xB3BAADFB#32
  | 64 => 0x33B9919E#32
  | 65 => 0xB3B885EC#32
  | 66 => 0x33B78A8A#32
  | 67 => 0xB3B69F28#32
  | 68 => 0x33B5C377#32
  | 69 => 0xB3B4F732#32
  | 70 => 0x33B43A15#32
  | 71 => 0xB3B38BE5#32
  | 72 => 0x33B2EC6A#32
  | 73 => 0xB3B25B72#32
  | 74 => 0x33B1D8CF#32
  | 75 => 0xB3B16459#32
  | 76 => 0x33B0FDEA#32
  | 77 => 0xB3B0A563#32
  | 78 => 0x33B05AA9#32
  | 79 => 0xB3B01DA5#32
  | 80 => 0x33AFEE43#32
  | 81 => 0xB3AFCC75#32
  | 82 => 0x33AFB831#32
  | 83 => 0xB3AFB170#32
  | 84 => 0x33AFB831#32
  | 85 => 0xB3AFCC75#32
  | 86 => 0x33AFEE43#32
  | 87 => 0xB3B01DA5#32
  | 88 => 0x33B05AA9#32
  | 89 => 0xB3B0A563#32
  | 90 => 0x33B0FDEA#32
  | 91 => 0xB3B16459#32
  | 92 => 0x33B1D8CF#32
  | 93 => 0xB3B25B72#32
  | 94 => 0x33B2EC6A#32
  | 95 => 0xB3B38BE5#32
  | 96 => 0x33B43A15#32
  | 97 => 0xB3B4F732#32
  | 98 => 0x33B5C377#32
  | 99 => 0xB3B69F28#32
  | 100 => 0x33B78A8A#32
  | 101 => 0xB3B885EC#32
  | 102 => 0x33B9919E#32
  | 103 => 0xB3BAADFB#32
  | 104 => 0x33BBDB61#32
  | 105 => 0xB3BD1A36#32
  | 106 => 0x33BE6AE7#32
  | 107 => 0xB3BFCDE6#32
  | 108 => 0x33C143B0#32
  | 109 => 0xB3C2CCC7#32
  | 110 => 0x33C469B8#32
  | 111 => 0xB3C61B15#32
  | 112 => 0x33C7E17D#32
  | 113 => 0xB3C9BD97#32
  | 114 => 0x33CBB015#32
  | 115 => 0xB3CDB9B1#32
  | 116 => 0x33CFDB34#32
  | 117 => 0xB3D21572#32
  | 118 => 0x33D4694B#32
  | 119 => 0xB3D6D7AE#32
  | 120 => 0x33D96196#32
  | 121 => 0xB3DC0810#32
  | 122 => 0x33DECC38#32
  | 123 => 0xB3E1AF3D#32
  | 124 => 0x33E4B25D#32
  | 125 => 0xB3E7D6EF#32
  | 126 => 0x33EB1E5A#32
  | 127 => 0xB3EE8A1F#32
  | _ => 0#32

noncomputable abbrev lit0t0_423 (i : Nat) : BitVec 32 := match i % 128 with
  | 0 => 0x33F21BD6#32
  | 1 => 0xB3F5D532#32
  | 2 => 0x33F9B800#32
  | 3 => 0xB3FDC62E#32
  | 4 => 0x340100E3#32
  | 5 => 0xB403367C#32
  | 6 => 0x3405850C#32
  | 7 => 0xB407EDD1#32
  | 8 => 0x340A721F#32
  | 9 => 0xB40D1360#32
  | 10 => 0x340FD31A#32
  | 11 => 0xB412B2ED#32
  | 12 => 0x3415B495#32
  | 13 => 0xB418D9F0#32
  | 14 => 0x341C2500#32
  | 15 => 0xB41F97EA#32
  | 16 => 0x342334FF#32
  | 17 => 0xB426FEBD#32
  | 18 => 0x342AF7D2#32
  | 19 => 0xB42F2322#32
  | 20 => 0x343383CC#32
  | 21 => 0xB4381D32#32
  | 22 => 0x343CF2FA#32
  | 23 => 0xB4420919#32
  | 24 => 0x344763DA#32
  | 25 => 0xB44D07E6#32
  | 26 => 0x3452FA51#32
  | 27 => 0xB45940A1#32
  | 28 => 0x345FE0DA#32
  | 29 => 0xB466E193#32
  | 30 => 0x346E49FF#32
  | 31 => 0xB4762200#32
  | 32 => 0x347E723F#32
  | 33 => 0xB483A221#32
  | 34 => 0x34885143#32
  | 35 => 0xB48D4C4D#32
  | 36 => 0x349299A5#32
  | 37 => 0xB4984061#32
  | 38 => 0x349E485F#32
  | 39 => 0xB4A4BA5F#32
  | 40 => 0x34ABA023#32
  | 41 => 0xB4B30492#32
  | 42 => 0x34BAF3E5#32
  | 43 => 0xB4C37BD6#32
  | 44 => 0x34CCABDA#32
  | 45 => 0xB4D69568#32
  | 46 => 0x34E14C49#32
  | 47 => 0xB4ECE6F7#32
  | 48 => 0x34F97F13#32
  | 49 => 0xB50398F7#32
  | 50 => 0x350B1097#32
  | 51 => 0xB51339CD#32
  | 52 => 0x351C2B08#32
  | 53 => 0xB525FE56#32
  | 54 => 0x3530D21D#32
  | 55 => 0xB53CCA00#32
  | 56 => 0x354A0FF9#32
  | 57 => 0xB558D5BB#32
  | 58 => 0x35695670#32
  | 59 => 0xB57BD8F1#32
  | 60 => 0x3588594C#32
  | 61 => 0xB5942572#32
  | 62 => 0x35A19018#32
  | 63 => 0xB5B0E6EF#32
  | 64 => 0x35C28A3B#32
  | 65 => 0xB5D6F23A#32
  | 66 => 0x35EEB658#32
  | 67 => 0xB6054B76#32
  | 68 => 0x3615C529#32
  | 69 => 0xB6296767#32
  | 70 => 0x3641014B#32
  | 71 => 0xB65DA20C#32
  | 72 => 0x368056F2#32
  | 73 => 0xB695FBC4#32
  | 74 => 0x36B0ED61#32
  | 75 => 0xB6D29E9B#32
  | 76 => 0x36FFBDB2#32
  | 77 => 0xB692EE32#32
  | 78 => 0x391EBB1A#32
  | 79 => 0x3B12D0DF#32
  | 80 => 0x3CA0086D#32
  | 81 => 0x3DBAD58B#32
  | 82 => 0x3E6BB748#32
  | 83 => 0x3EA069FE#32
  | 84 => 0x3E6BB748#32
  | 85 => 0x3DBAD58B#32
  | 86 => 0x3CA0086D#32
  | 87 => 0x3B12D0DF#32
  | 88 => 0x391EBB1A#32
  | 89 => 0xB692EE32#32
  | 90 => 0x36FFBDB2#32
  | 91 => 0xB6D29E9B#32
  | 92 => 0x36B0ED61#32
  | 93 => 0xB695FBC4#32
  | 94 => 0x368056F2#32
  | 95 => 0xB65DA20C#32
  | 96 => 0x3641014B#32
  | 97 => 0xB6296767#32
  | 98 => 0x3615C529#32
  | 99 => 0xB6054B76#32
  | 100 => 0x35EEB658#32
  | 101 => 0xB5D6F23A#32
  | 102 => 0x35C28A3B#32
  | 103 => 0xB5B0E6EF#32
  | 104 => 0x35A19018#32
  | 105 => 0xB5942572#32
  | 106 => 0x3588594C#32
  | 107 => 0xB57BD8F1#32
  | 108 => 0x35695670#32
  | 109 => 0xB558D5BB#32
  | 110 => 0x354A0FF9#32
  | 111 => 0xB53CCA00#32
  | 112 => 0x3530D21D#32
  | 113 => 0xB525FE56#32
  | 114 => 0x351C2B08#32
  | 115 => 0xB51339CD#32
  | 116 => 0x350B1097#32
  | 117 => 0xB50398F7#32
  | 118 => 0x34F97F13#32
  | 119 => 0xB4ECE6F7#32
  | 120 => 0x34E14C49#32
  | 121 => 0xB4D69568#32
  | 122 => 0x34CCABDA#32
  | 123 => 0xB4C37BD6#32
  | 124 => 0x34BAF3E5#32
  | 125 => 0xB4B30492#32
  | 126 => 0x34ABA023#32
  | 127 => 0xB4A4BA5F#32
  | _ => 0#32

noncomputable abbrev lit0t0_424 (i : Nat) : BitVec 32 := match i % 128 with
  | 0 => 0xB4A4BA5F#32
  | 1 => 0x349E485F#32
  | 2 => 0xB4984061#32
  | 3 => 0x349299A5#32
  | 4 => 0xB48D4C4D#32
  | 5 => 0x34885142#32
  | 6 => 0xB483A221#32
  | 7 => 0x347E723F#32
  | 8 => 0xB4762200#32
  | 9 => 0x346E49FF#32
  | 10 => 0xB466E193#32
  | 11 => 0x345FE0DA#32
  | 12 => 0xB45940A1#32
  | 13 => 0x3452FA51#32
  | 14 => 0xB44D07E6#32
  | 15 => 0x344763DA#32
  | 16 => 0xB4420919#32
  | 17 => 0x343CF2FA#32
  | 18 => 0xB4381D32#32
  | 19 => 0x343383CC#32
  | 20 => 0xB42F2322#32
  | 21 => 0x342AF7D2#32
  | 22 => 0xB426FEBD#32
  | 23 => 0x342334FF#32
  | 24 => 0xB41F97EA#32
  | 25 => 0x341C2500#32
  | 26 => 0xB418D9F0#32
  | 27 => 0x3415B495#32
  | 28 => 0xB412B2ED#32
  | 29 => 0x340FD31A#32
  | 30 => 0xB40D1360#32
  | 31 => 0x340A721F#32
  | 32 => 0xB407EDD1#32
  | 33 => 0x3405850C#32
  | 34 => 0xB403367C#32
  | 35 => 0x340100E3#32
  | 36 => 0xB3FDC62E#32
  | 37 => 0x33F9B800#32
  | 38 => 0xB3F5D532#32
  | 39 => 0x33F21BD6#32
  | 40 => 0xB3EE8A1F#32
  | 41 => 0x33EB1E5A#32
  | 42 => 0xB3E7D6EF#32
  | 43 => 0x33E4B25D#32
  | 44 => 0xB3E1AF3D#32
  | 45 => 0x33DECC38#32
  | 46 => 0xB3DC0810#32
  | 47 => 0x33D96196#32
  | 48 => 0xB3D6D7AE#32
  | 49 => 0x33D4694B#32
  | 50 => 0xB3D21572#32
  | 51 => 0x33CFDB34#32
  | 52 => 0xB3CDB9B1#32
  | 53 => 0x33CBB015#32
  | 54 => 0xB3C9BD97#32
  | 55 => 0x33C7E17D#32
  | 56 => 0xB3C61B15#32
  | 57 => 0x33C469B8#32
  | 58 => 0xB3C2CCC7#32
  | 59 => 0x33C143B0#32
  | 60 => 0xB3BFCDE6#32
  | 61 => 0x33BE6AE7#32
  | 62 => 0xB3BD1A36#32
  | 63 => 0x33BBDB61#32
  | 64 => 0xB3BAADFB#32
  | 65 => 0x33B9919E#32
  | 66 => 0xB3B885EC#32
  | 67 => 0x33B78A8A#32
  | 68 => 0xB3B69F28#32
  | 69 => 0x33B5C377#32
  | 70 => 0xB3B4F732#32
  | 71 => 0x33B43A15#32
  | 72 => 0xB3B38BE5#32
  | 73 => 0x33B2EC6A#32
  | 74 => 0xB3B25B72#32
  | 75 => 0x33B1D8CF#32
  | 76 => 0xB3B16459#32
  | 77 => 0x33B0FDEA#32
  | 78 => 0xB3B0A563#32
  | 79 => 0x33B05AA9#32
  | 80 => 0xB3B01DA5#32
  | 81 => 0x33AFEE43#32
  | 82 => 0xB3AFCC75#32
  | 83 => 0x33AFB831#32
  | 84 => 0xB3AFB170#32
  | 85 => 0x33AFB831#32
  | 86 => 0xB3AFCC75#32
  | 87 => 0x33AFEE43#32
  | 88 => 0xB3B01DA5#32
  | 89 => 0x33B05AA9#32
  | 90 => 0xB3B0A563#32
  | 91 => 0x33B0FDEA#32
  | 92 => 0xB3B16459#32
  | 93 => 0x33B1D8CF#32
  | 94 => 0xB3B25B72#32
  | 95 => 0x33B2EC6A#32
  | 96 => 0xB3B38BE5#32
  | 97 => 0x33B43A15#32
  | 98 => 0xB3B4F732#32
  | 99 => 0x33B5C377#32
  | 100 => 0xB3B69F28#32
  | 101 => 0x33B78A8A#32
  | 102 => 0xB3B885EC#32
  | 103 => 0x33B9919E#32
  | 104 => 0xB3BAADFB#32
  | 105 => 0x33BBDB61#32
  | 106 => 0xB3BD1A36#32
  | 107 => 0x33BE6AE7#32
  | 108 => 0xB3BFCDE6#32
  | 109 => 0x33C143B0#32
  | 110 => 0xB3C2CCC7#32
  | 111 => 0x33C469B8#32
  | 112 => 0xB3C61B15#32
  | 113 => 0x33C7E17D#32
  | 114 => 0xB3C9BD97#32
  | 115 => 0x33CBB015#32
  | 116 => 0xB3CDB9B1#32
  | 117 => 0x33CFDB34#32
  | 118 => 0xB3D21572#32
  | 119 => 0x33D4694B#32
  | 120 => 0xB3D6D7AE#32
  | 121 => 0x33D96196#32
  | 122 => 0xB3DC0810#32
  | 123 => 0x33DECC38#32
  | 124 => 0xB3E1AF3D#32
  | 125 => 0x33E4B25D#32
  | 126 => 0xB3E7D6EF#32
  | 127 => 0x33EB1E5A#32
  | _ => 0#32

noncomputable abbrev lit0t0_425 (i : Nat) : BitVec 32 := match i % 128 with
  | 0 => 0xB3EE8A1F#32
  | 1 => 0x33F21BD6#32
  | 2 => 0xB3F5D532#32
  | 3 => 0x33F9B800#32
  | 4 => 0xB3FDC62E#32
  | 5 => 0x340100E3#32
  | 6 => 0xB403367C#32
  | 7 => 0x3405850C#32
  | 8 => 0xB407EDD1#32
  | 9 => 0x340A721F#32
  | 10 => 0xB40D1360#32
  | 11 => 0x340FD31A#32
  | 12 => 0xB412B2ED#32
  | 13 => 0x3415B495#32
  | 14 => 0xB418D9F0#32
  | 15 => 0x341C2500#32
  | 16 => 0xB41F97EA#32
  | 17 => 0x342334FF#32
  | 18 => 0xB426FEBD#32
  | 19 => 0x342AF7D2#32
  | 20 => 0xB42F2322#32
  | 21 => 0x343383CC#32
  | 22 => 0xB4381D32#32
  | 23 => 0x343CF2FA#32
  | 24 => 0xB4420919#32
  | 25 => 0x344763DA#32
  | 26 => 0xB44D07E6#32
  | 27 => 0x3452FA51#32
  | 28 => 0xB45940A1#32
  | 29 => 0x345FE0DA#32
  | 30 => 0xB466E193#32
  | 31 => 0x346E49FF#32
  | 32 => 0xB4762200#32
  | 33 => 0x347E723F#32
  | 34 => 0xB483A221#32
  | 35 => 0x34885142#32
  | 36 => 0xB48D4C4D#32
  | 37 => 0x349299A5#32
  | 38 => 0xB4984061#32
  | 39 => 0x349E485F#32
  | 40 => 0xB4A4BA5F#32
  | 41 => 0x34ABA023#32
  | 42 => 0xB4B30492#32
  | 43 => 0x34BAF3E5#32
  | 44 => 0xB4C37BD6#32
  | 45 => 0x34CCABDA#32
  | 46 => 0xB4D69568#32
  | 47 => 0x34E14C49#32
  | 48 => 0xB4ECE6F7#32
  | 49 => 0x34F97F13#32
  | 50 => 0xB50398F7#32
  | 51 => 0x350B1097#32
  | 52 => 0xB51339CD#32
  | 53 => 0x351C2B08#32
  | 54 => 0xB525FE56#32
  | 55 => 0x3530D21D#32
  | 56 => 0xB53CCA00#32
  | 57 => 0x354A0FF9#32
  | 58 => 0xB558D5BB#32
  | 59 => 0x35695670#32
  | 60 => 0xB57BD8F1#32
  | 61 => 0x3588594C#32
  | 62 => 0xB5942572#32
  | 63 => 0x35A19018#32
  | 64 => 0xB5B0E6EF#32
  | 65 => 0x35C28A3B#32
  | 66 => 0xB5D6F23A#32
  | 67 => 0x35EEB658#32
  | 68 => 0xB6054B76#32
  | 69 => 0x3615C529#32
  | 70 => 0xB6296767#32
  | 71 => 0x3641014B#32
  | 72 => 0xB65DA20C#32
  | 73 => 0x368056F2#32
  | 74 => 0xB695FBC4#32
  | 75 => 0x36B0ED61#32
  | 76 => 0xB6D29E9B#32
  | 77 => 0x36FFBDB2#32
  | 78 => 0xB692EE32#32
  | 79 => 0x391EBB1A#32
  | 80 => 0x3B12D0DF#32
  | 81 => 0x3CA0086D#32
  | 82 => 0x3DBAD58B#32
  | 83 => 0x3E6BB748#32
  | 84 => 0x3EA069FE#32
  | 85 => 0x3E6BB748#32
  | 86 => 0x3DBAD58B#32
  | 87 => 0x3CA0086D#32
  | 88 => 0x3B12D0DF#32
  | 89 => 0x391EBB1A#32
  | 90 => 0xB692EE32#32
  | 91 => 0x36FFBDB2#32
  | 92 => 0xB6D29E9B#32
  | 93 => 0x36B0ED61#32
  | 94 => 0xB695FBC4#32
  | 95 => 0x368056F2#32
  | 96 => 0xB65DA20C#32
  | 97 => 0x3641014B#32
  | 98 => 0xB6296767#32
  | 99 => 0x3615C529#32
  | 100 => 0xB6054B76#32
  | 101 => 0x35EEB658#32
  | 102 => 0xB5D6F23A#32
  | 103 => 0x35C28A3B#32
  | 104 => 0xB5B0E6EF#32
  | 105 => 0x35A19018#32
  | 106 => 0xB5942572#32
  | 107 => 0x3588594C#32
  | 108 => 0xB57BD8F1#32
  | 109 => 0x35695670#32
  | 110 => 0xB558D5BB#32
  | 111 => 0x354A0FF9#32
  | 112 => 0xB53CCA00#32
  | 113 => 0x3530D21D#32
  | 114 => 0xB525FE56#32
  | 115 => 0x351C2B08#32
  | 116 => 0xB51339CD#32
  | 117 => 0x350B1097#32
  | 118 => 0xB50398F7#32
  | 119 => 0x34F97F13#32
  | 120 => 0xB4ECE6F7#32
  | 121 => 0x34E14C49#32
  | 122 => 0xB4D69568#32
  | 123 => 0x34CCABDA#32
  | 124 => 0xB4C37BD6#32
  | 125 => 0x34BAF3E5#32
  | 126 => 0xB4B30492#32
  | 127 => 0x34ABA023#32
  | _ => 0#32

noncomputable abbrev lit0t0_426 (i : Nat) : BitVec 32 := match i % 128 with
  | 0 => 0x34ABA023#32
  | 1 => 0xB4A4BA5F#32
  | 2 => 0x349E485F#32
  | 3 => 0xB4984061#32
  | 4 => 0x349299A5#32
  | 5 => 0xB48D4C4D#32
  | 6 => 0x34885143#32
  | 7 => 0xB483A221#32
  | 8 => 0x347E723F#32
  | 9 => 0xB4762200#32
  | 10 => 0x346E49FF#32
  | 11 => 0xB466E193#32
  | 12 => 0x345FE0DA#32
  | 13 => 0xB45940A1#32
  | 14 => 0x3452FA51#32
  | 15 => 0xB44D07E6#32
  | 16 => 0x344763DA#32
  | 17 => 0xB4420919#32
  | 18 => 0x343CF2FA#32
  | 19 => 0xB4381D32#32
  | 20 => 0x343383CC#32
  | 21 => 0xB42F2322#32
  | 22 => 0x342AF7D2#32
  | 23 => 0xB426FEBD#32
  | 24 => 0x342334FF#32
  | 25 => 0xB41F97EA#32
  | 26 => 0x341C2500#32
  | 27 => 0xB418D9F0#32
  | 28 => 0x3415B495#32
  | 29 => 0xB412B2ED#32
  | 30 => 0x340FD31A#32
  | 31 => 0xB40D1360#32
  | 32 => 0x340A721F#32
  | 33 => 0xB407EDD1#32
  | 34 => 0x3405850C#32
  | 35 => 0xB403367C#32
  | 36 => 0x340100E3#32
  | 37 => 0xB3FDC62E#32
  | 38 => 0x33F9B800#32
  | 39 => 0xB3F5D532#32
  | 40 => 0x33F21BD6#32
  | 41 => 0xB3EE8A1F#32
  | 42 => 0x33EB1E5A#32
  | 43 => 0xB3E7D6EF#32
  | 44 => 0x33E4B25D#32
  | 45 => 0xB3E1AF3D#32
  | 46 => 0x33DECC38#32
  | 47 => 0xB3DC0810#32
  | 48 => 0x33D96196#32
  | 49 => 0xB3D6D7AE#32
  | 50 => 0x33D4694B#32
  | 51 => 0xB3D21572#32
  | 52 => 0x33CFDB34#32
  | 53 => 0xB3CDB9B1#32
  | 54 => 0x33CBB015#32
  | 55 => 0xB3C9BD97#32
  | 56 => 0x33C7E17D#32
  | 57 => 0xB3C61B15#32
  | 58 => 0x33C469B8#32
  | 59 => 0xB3C2CCC7#32
  | 60 => 0x33C143B0#32
  | 61 => 0xB3BFCDE6#32
  | 62 => 0x33BE6AE7#32
  | 63 => 0xB3BD1A36#32
  | 64 => 0x33BBDB61#32
  | 65 => 0xB3BAADFB#32
  | 66 => 0x33B9919E#32
  | 67 => 0xB3B885EC#32
  | 68 => 0x33B78A8A#32
  | 69 => 0xB3B69F28#32
  | 70 => 0x33B5C377#32
  | 71 => 0xB3B4F732#32
  | 72 => 0x33B43A15#32
  | 73 => 0xB3B38BE5#32
  | 74 => 0x33B2EC6A#32
  | 75 => 0xB3B25B72#32
  | 76 => 0x33B1D8CF#32
  | 77 => 0xB3B16459#32
  | 78 => 0x33B0FDEA#32
  | 79 => 0xB3B0A563#32
  | 80 => 0x33B05AA9#32
  | 81 => 0xB3B01DA5#32
  | 82 => 0x33AFEE43#32
  | 83 => 0xB3AFCC75#32
  | 84 => 0x33AFB831#32
  | 85 => 0xB3AFB170#32
  | 86 => 0x33AFB831#32
  | 87 => 0xB3AFCC75#32
  | 88 => 0x33AFEE43#32
  | 89 => 0xB3B01DA5#32
  | 90 => 0x33B05AA9#32
  | 91 => 0xB3B0A563#32
  | 92 => 0x33B0FDEA#32
  | 93 => 0xB3B16459#32
  | 94 => 0x33B1D8CF#32
  | 95 => 0xB3B25B72#32
  | 96 => 0x33B2EC6A#32
  | 97 => 0xB3B38BE5#32
  | 98 => 0x33B43A15#32
  | 99 => 0xB3B4F732#32
  | 100 => 0x33B5C377#32
  | 101 => 0xB3B69F28#32
  | 102 => 0x33B78A8A#32
  | 103 => 0xB3B885EC#32
  | 104 => 0x33B9919E#32
  | 105 => 0xB3BAADFB#32
  | 106 => 0x33BBDB61#32
  | 107 => 0xB3BD1A36#32
  | 108 => 0x33BE6AE7#32
  | 109 => 0xB3BFCDE6#32
  | 110 => 0x33C143B0#32
  | 111 => 0xB3C2CCC7#32
  | 112 => 0x33C469B8#32
  | 113 => 0xB3C61B15#32
  | 114 => 0x33C7E17D#32
  | 115 => 0xB3C9BD97#32
  | 116 => 0x33CBB015#32
  | 117 => 0xB3CDB9B1#32
  | 118 => 0x33CFDB34#32
  | 119 => 0xB3D21572#32
  | 120 => 0x33D4694B#32
  | 121 => 0xB3D6D7AE#32
  | 122 => 0x33D96196#32
  | 123 => 0xB3DC0810#32
  | 124 => 0x33DECC38#32
  | 125 => 0xB3E1AF3D#32
  | 126 => 0x33E4B25D#32
  | 127 => 0xB3E7D6EF#32
  | _ => 0#32

noncomputable abbrev lit0t0_427 (i : Nat) : BitVec 32 := match i % 128 with
  | 0 => 0x33EB1E5A#32
  | 1 => 0xB3EE8A1F#32
  | 2 => 0x33F21BD6#32
  | 3 => 0xB3F5D532#32
  | 4 => 0x33F9B800#32
  | 5 => 0xB3FDC62E#32
  | 6 => 0x340100E3#32
  | 7 => 0xB403367C#32
  | 8 => 0x3405850C#32
  | 9 => 0xB407EDD1#32
  | 10 => 0x340A721F#32
  | 11 => 0xB40D1360#32
  | 12 => 0x340FD31A#32
  | 13 => 0xB412B2ED#32
  | 14 => 0x3415B495#32
  | 15 => 0xB418D9F0#32
  | 16 => 0x341C2500#32
  | 17 => 0xB41F97EA#32
  | 18 => 0x342334FF#32
  | 19 => 0xB426FEBD#32
  | 20 => 0x342AF7D2#32
  | 21 => 0xB42F2322#32
  | 22 => 0x343383CC#32
  | 23 => 0xB4381D32#32
  | 24 => 0x343CF2FA#32
  | 25 => 0xB4420919#32
  | 26 => 0x344763DA#32
  | 27 => 0xB44D07E6#32
  | 28 => 0x3452FA51#32
  | 29 => 0xB45940A1#32
  | 30 => 0x345FE0DA#32
  | 31 => 0xB466E193#32
  | 32 => 0x346E49FF#32
  | 33 => 0xB4762200#32
  | 34 => 0x347E723F#32
  | 35 => 0xB483A221#32
  | 36 => 0x34885143#32
  | 37 => 0xB48D4C4D#32
  | 38 => 0x349299A5#32
  | 39 => 0xB4984061#32
  | 40 => 0x349E485F#32
  | 41 => 0xB4A4BA5F#32
  | 42 => 0x34ABA023#32
  | 43 => 0xB4B30492#32
  | 44 => 0x34BAF3E5#32
  | 45 => 0xB4C37BD6#32
  | 46 => 0x34CCABDA#32
  | 47 => 0xB4D69568#32
  | 48 => 0x34E14C49#32
  | 49 => 0xB4ECE6F7#32
  | 50 => 0x34F97F13#32
  | 51 => 0xB50398F7#32
  | 52 => 0x350B1097#32
  | 53 => 0xB51339CD#32
  | 54 => 0x351C2B08#32
  | 55 => 0xB525FE56#32
  | 56 => 0x3530D21D#32
  | 57 => 0xB53CCA00#32
  | 58 => 0x354A0FF9#32
  | 59 => 0xB558D5BB#32
  | 60 => 0x35695670#32
  | 61 => 0xB57BD8F1#32
  | 62 => 0x3588594C#32
  | 63 => 0xB5942572#32
  | 64 => 0x35A19018#32
  | 65 => 0xB5B0E6EF#32
  | 66 => 0x35C28A3B#32
  | 67 => 0xB5D6F23A#32
  | 68 => 0x35EEB658#32
  | 69 => 0xB6054B76#32
  | 70 => 0x3615C529#32
  | 71 => 0xB6296767#32
  | 72 => 0x3641014B#32
  | 73 => 0xB65DA20C#32
  | 74 => 0x368056F2#32
  | 75 => 0xB695FBC4#32
  | 76 => 0x36B0ED61#32
  | 77 => 0xB6D29E9B#32
  | 78 => 0x36FFBDB2#32
  | 79 => 0xB692EE32#32
  | 80 => 0x391EBB1A#32
  | 81 => 0x3B12D0DF#32
  | 82 => 0x3CA0086D#32
  | 83 => 0x3DBAD58B#32
  | 84 => 0x3E6BB748#32
  | 85 => 0x3EA069FE#32
  | 86 => 0x3E6BB748#32
  | 87 => 0x3DBAD58B#32
  | 88 => 0x3CA0086D#32
  | 89 => 0x3B12D0DF#32
  | 90 => 0x391EBB1A#32
  | 91 => 0xB692EE32#32
  | 92 => 0x36FFBDB2#32
  | 93 => 0xB6D29E9B#32
  | 94 => 0x36B0ED61#32
  | 95 => 0xB695FBC4#32
  | 96 => 0x368056F2#32
  | 97 => 0xB65DA20C#32
  | 98 => 0x3641014B#32
  | 99 => 0xB6296767#32
  | 100 => 0x3615C529#32
  | 101 => 0xB6054B76#32
  | 102 => 0x35EEB658#32
  | 103 => 0xB5D6F23A#32
  | 104 => 0x35C28A3B#32
  | 105 => 0xB5B0E6EF#32
  | 106 => 0x35A19018#32
  | 107 => 0xB5942572#32
  | 108 => 0x3588594C#32
  | 109 => 0xB57BD8F1#32
  | 110 => 0x35695670#32
  | 111 => 0xB558D5BB#32
  | 112 => 0x354A0FF9#32
  | 113 => 0xB53CCA00#32
  | 114 => 0x3530D21D#32
  | 115 => 0xB525FE56#32
  | 116 => 0x351C2B08#32
  | 117 => 0xB51339CD#32
  | 118 => 0x350B1097#32
  | 119 => 0xB50398F7#32
  | 120 => 0x34F97F13#32
  | 121 => 0xB4ECE6F7#32
  | 122 => 0x34E14C49#32
  | 123 => 0xB4D69568#32
  | 124 => 0x34CCABDA#32
  | 125 => 0xB4C37BD6#32
  | 126 => 0x34BAF3E5#32
  | 127 => 0xB4B30492#32
  | _ => 0#32

noncomputable abbrev lit0t0_428 (i : Nat) : BitVec 32 := match i % 128 with
  | 0 => 0xB4B30492#32
  | 1 => 0x34ABA023#32
  | 2 => 0xB4A4BA5F#32
  | 3 => 0x349E485F#32
  | 4 => 0xB4984061#32
  | 5 => 0x349299A5#32
  | 6 => 0xB48D4C4D#32
  | 7 => 0x34885143#32
  | 8 => 0xB483A221#32
  | 9 => 0x347E723F#32
  | 10 => 0xB4762200#32
  | 11 => 0x346E49FF#32
  | 12 => 0xB466E193#32
  | 13 => 0x345FE0DA#32
  | 14 => 0xB45940A1#32
  | 15 => 0x3452FA51#32
  | 16 => 0xB44D07E6#32
  | 17 => 0x344763DA#32
  | 18 => 0xB4420919#32
  | 19 => 0x343CF2FA#32
  | 20 => 0xB4381D32#32
  | 21 => 0x343383CC#32
  | 22 => 0xB42F2322#32
  | 23 => 0x342AF7D2#32
  | 24 => 0xB426FEBD#32
  | 25 => 0x342334FF#32
  | 26 => 0xB41F97EA#32
  | 27 => 0x341C2500#32
  | 28 => 0xB418D9F0#32
  | 29 => 0x3415B495#32
  | 30 => 0xB412B2ED#32
  | 31 => 0x340FD31A#32
  | 32 => 0xB40D1360#32
  | 33 => 0x340A721F#32
  | 34 => 0xB407EDD1#32
  | 35 => 0x3405850C#32
  | 36 => 0xB403367C#32
  | 37 => 0x340100E3#32
  | 38 => 0xB3FDC62E#32
  | 39 => 0x33F9B800#32
  | 40 => 0xB3F5D532#32
  | 41 => 0x33F21BD6#32
  | 42 => 0xB3EE8A1F#32
  | 43 => 0x33EB1E5A#32
  | 44 => 0xB3E7D6EF#32
  | 45 => 0x33E4B25D#32
  | 46 => 0xB3E1AF3D#32
  | 47 => 0x33DECC38#32
  | 48 => 0xB3DC0810#32
  | 49 => 0x33D96196#32
  | 50 => 0xB3D6D7AE#32
  | 51 => 0x33D4694B#32
  | 52 => 0xB3D21572#32
  | 53 => 0x33CFDB34#32
  | 54 => 0xB3CDB9B1#32
  | 55 => 0x33CBB015#32
  | 56 => 0xB3C9BD97#32
  | 57 => 0x33C7E17D#32
  | 58 => 0xB3C61B15#32
  | 59 => 0x33C469B8#32
  | 60 => 0xB3C2CCC7#32
  | 61 => 0x33C143B0#32
  | 62 => 0xB3BFCDE6#32
  | 63 => 0x33BE6AE7#32
  | 64 => 0xB3BD1A36#32
  | 65 => 0x33BBDB61#32
  | 66 => 0xB3BAADFB#32
  | 67 => 0x33B9919E#32
  | 68 => 0xB3B885EC#32
  | 69 => 0x33B78A8A#32
  | 70 => 0xB3B69F28#32
  | 71 => 0x33B5C377#32
  | 72 => 0xB3B4F732#32
  | 73 => 0x33B43A15#32
  | 74 => 0xB3B38BE5#32
  | 75 => 0x33B2EC6A#32
  | 76 => 0xB3B25B72#32
  | 77 => 0x33B1D8CF#32
  | 78 => 0xB3B16459#32
  | 79 => 0x33B0FDEA#32
  | 80 => 0xB3B0A563#32
  | 81 => 0x33B05AA9#32
  | 82 => 0xB3B01DA5#32
  | 83 => 0x33AFEE43#32
  | 84 => 0xB3AFCC75#32
  | 85 => 0x33AFB831#32
  | 86 => 0xB3AFB170#32
  | 87 => 0x33AFB831#32
  | 88 => 0xB3AFCC75#32
  | 89 => 0x33AFEE43#32
  | 90 => 0xB3B01DA5#32
  | 91 => 0x33B05AA9#32
  | 92 => 0xB3B0A563#32
  | 93 => 0x33B0FDEA#32
  | 94 => 0xB3B16459#32
  | 95 => 0x33B1D8CF#32
  | 96 => 0xB3B25B72#32
  | 97 => 0x33B2EC6A#32
  | 98 => 0xB3B38BE5#32
  | 99 => 0x33B43A15#32
  | 100 => 0xB3B4F732#32
  | 101 => 0x33B5C377#32
  | 102 => 0xB3B69F28#32
  | 103 => 0x33B78A8A#32
  | 104 => 0xB3B885EC#32
  | 105 => 0x33B9919E#32
  | 106 => 0xB3BAADFB#32
  | 107 => 0x33BBDB61#32
  | 108 => 0xB3BD1A36#32
  | 109 => 0x33BE6AE7#32
  | 110 => 0xB3BFCDE6#32
  | 111 => 0x33C143B0#32
  | 112 => 0xB3C2CCC7#32
  | 113 => 0x33C469B8#32
  | 114 => 0xB3C61B15#32
  | 115 => 0x33C7E17D#32
  | 116 => 0xB3C9BD97#32
  | 117 => 0x33CBB015#32
  | 118 => 0xB3CDB9B1#32
  | 119 => 0x33CFDB34#32
  | 120 => 0xB3D21572#32
  | 121 => 0x33D4694B#32
  | 122 => 0xB3D6D7AE#32
  | 123 => 0x33D96196#32
  | 124 => 0xB3DC0810#32
  | 125 => 0x33DECC38#32
  | 126 => 0xB3E1AF3D#32
  | 127 => 0x33E4B25D#32
  | _ => 0#32

noncomputable abbrev lit0t0_429 (i : Nat) : BitVec 32 := match i % 128 with
  | 0 => 0xB3E7D6EF#32
  | 1 => 0x33EB1E5A#32
  | 2 => 0xB3EE8A1F#32
  | 3 => 0x33F21BD6#32
  | 4 => 0xB3F5D532#32
  | 5 => 0x33F9B800#32
  | 6 => 0xB3FDC62E#32
  | 7 => 0x340100E3#32
  | 8 => 0xB403367C#32
  | 9 => 0x3405850C#32
  | 10 => 0xB407EDD1#32
  | 11 => 0x340A721F#32
  | 12 => 0xB40D1360#32
  | 13 => 0x340FD31A#32
  | 14 => 0xB412B2ED#32
  | 15 => 0x3415B495#32
  | 16 => 0xB418D9F0#32
  | 17 => 0x341C2500#32
  | 18 => 0xB41F97EA#32
  | 19 => 0x342334FF#32
  | 20 => 0xB426FEBD#32
  | 21 => 0x342AF7D2#32
  | 22 => 0xB42F2322#32
  | 23 => 0x343383CC#32
  | 24 => 0xB4381D32#32
  | 25 => 0x343CF2FA#32
  | 26 => 0xB4420919#32
  | 27 => 0x344763DA#32
  | 28 => 0xB44D07E6#32
  | 29 => 0x3452FA51#32
  | 30 => 0xB45940A1#32
  | 31 => 0x345FE0DA#32
  | 32 => 0xB466E193#32
  | 33 => 0x346E49FF#32
  | 34 => 0xB4762200#32
  | 35 => 0x347E723F#32
  | 36 => 0xB483A221#32
  | 37 => 0x34885143#32
  | 38 => 0xB48D4C4D#32
  | 39 => 0x349299A5#32
  | 40 => 0xB4984061#32
  | 41 => 0x349E485F#32
  | 42 => 0xB4A4BA5F#32
  | 43 => 0x34ABA023#32
  | 44 => 0xB4B30492#32
  | 45 => 0x34BAF3E5#32
  | 46 => 0xB4C37BD6#32
  | 47 => 0x34CCABDA#32
  | 48 => 0xB4D69568#32
  | 49 => 0x34E14C49#32
  | 50 => 0xB4ECE6F7#32
  | 51 => 0x34F97F13#32
  | 52 => 0xB50398F7#32
  | 53 => 0x350B1097#32
  | 54 => 0xB51339CD#32
  | 55 => 0x351C2B08#32
  | 56 => 0xB525FE56#32
  | 57 => 0x3530D21D#32
  | 58 => 0xB53CCA00#32
  | 59 => 0x354A0FF9#32
  | 60 => 0xB558D5BB#32
  | 61 => 0x35695670#32
  | 62 => 0xB57BD8F1#32
  | 63 => 0x3588594C#32
  | 64 => 0xB5942572#32
  | 65 => 0x35A19018#32
  | 66 => 0xB5B0E6EF#32
  | 67 => 0x35C28A3B#32
  | 68 => 0xB5D6F23A#32
  | 69 => 0x35EEB658#32
  | 70 => 0xB6054B76#32
  | 71 => 0x3615C529#32
  | 72 => 0xB6296767#32
  | 73 => 0x3641014B#32
  | 74 => 0xB65DA20C#32
  | 75 => 0x368056F2#32
  | 76 => 0xB695FBC4#32
  | 77 => 0x36B0ED61#32
  | 78 => 0xB6D29E9B#32
  | 79 => 0x36FFBDB2#32
  | 80 => 0xB692EE32#32
  | 81 => 0x391EBB1A#32
  | 82 => 0x3B12D0DF#32
  | 83 => 0x3CA0086D#32
  | 84 => 0x3DBAD58B#32
  | 85 => 0x3E6BB748#32
  | 86 => 0x3EA069FE#32
  | 87 => 0x3E6BB748#32
  | 88 => 0x3DBAD58B#32
  | 89 => 0x3CA0086D#32
  | 90 => 0x3B12D0DF#32
  | 91 => 0x391EBB1A#32
  | 92 => 0xB692EE32#32
  | 93 => 0x36FFBDB2#32
  | 94 => 0xB6D29E9B#32
  | 95 => 0x36B0ED61#32
  | 96 => 0xB695FBC4#32
  | 97 => 0x368056F2#32
  | 98 => 0xB65DA20C#32
  | 99 => 0x3641014B#32
  | 100 => 0xB6296767#32
  | 101 => 0x3615C529#32
  | 102 => 0xB6054B76#32
  | 103 => 0x35EEB658#32
  | 104 => 0xB5D6F23A#32
  | 105 => 0x35C28A3B#32
  | 106 => 0xB5B0E6EF#32
  | 107 => 0x35A19018#32
  | 108 => 0xB5942572#32
  | 109 => 0x3588594C#32
  | 110 => 0xB57BD8F1#32
  | 111 => 0x35695670#32
  | 112 => 0xB558D5BB#32
  | 113 => 0x354A0FF9#32
  | 114 => 0xB53CCA00#32
  | 115 => 0x3530D21D#32
  | 116 => 0xB525FE56#32
  | 117 => 0x351C2B08#32
  | 118 => 0xB51339CD#32
  | 119 => 0x350B1097#32
  | 120 => 0xB50398F7#32
  | 121 => 0x34F97F13#32
  | 122 => 0xB4ECE6F7#32
  | 123 => 0x34E14C49#32
  | 124 => 0xB4D69568#32
  | 125 => 0x34CCABDA#32
  | 126 => 0xB4C37BD6#32
  | 127 => 0x34BAF3E5#32
  | _ => 0#32

noncomputable abbrev lit0t0_430 (i : Nat) : BitVec 32 := match i % 128 with
  | 0 => 0x34BAF3E5#32
  | 1 => 0xB4B30492#32
  | 2 => 0x34ABA023#32
  | 3 => 0xB4A4BA5F#32
  | 4 => 0x349E485F#32
  | 5 => 0xB4984061#32
  | 6 => 0x349299A5#32
  | 7 => 0xB48D4C4D#32
  | 8 => 0x34885143#32
  | 9 => 0xB483A221#32
  | 10 => 0x347E723F#32
  | 11 => 0xB4762200#32
  | 12 => 0x346E49FF#32
  | 13 => 0xB466E193#32
  | 14 => 0x345FE0DA#32
  | 15 => 0xB45940A1#32
  | 16 => 0x3452FA51#32
  | 17 => 0xB44D07E6#32
  | 18 => 0x344763DA#32
  | 19 => 0xB4420919#32
  | 20 => 0x343CF2FA#32
  | 21 => 0xB4381D32#32
  | 22 => 0x343383CC#32
  | 23 => 0xB42F2322#32
  | 24 => 0x342AF7D2#32
  | 25 => 0xB426FEBD#32
  | 26 => 0x342334FF#32
  | 27 => 0xB41F97EA#32
  | 28 => 0x341C2500#32
  | 29 => 0xB418D9F0#32
  | 30 => 0x3415B495#32
  | 31 => 0xB412B2ED#32
  | 32 => 0x340FD31A#32
  | 33 => 0xB40D1360#32
  | 34 => 0x340A721F#32
  | 35 => 0xB407EDD1#32
  | 36 => 0x3405850C#32
  | 37 => 0xB403367C#32
  | 38 => 0x340100E3#32
  | 39 => 0xB3FDC62E#32
  | 40 => 0x33F9B800#32
  | 41 => 0xB3F5D532#32
  | 42 => 0x33F21BD6#32
  | 43 => 0xB3EE8A1F#32
  | 44 => 0x33EB1E5A#32
  | 45 => 0xB3E7D6EF#32
  | 46 => 0x33E4B25D#32
  | 47 => 0xB3E1AF3D#32
  | 48 => 0x33DECC38#32
  | 49 => 0xB3DC0810#32
  | 50 => 0x33D96196#32
  | 51 => 0xB3D6D7AE#32
  | 52 => 0x33D4694B#32
  | 53 => 0xB3D21572#32
  | 54 => 0x33CFDB34#32
  | 55 => 0xB3CDB9B1#32
  | 56 => 0x33CBB015#32
  | 57 => 0xB3C9BD97#32
  | 58 => 0x33C7E17D#32
  | 59 => 0xB3C61B15#32
  | 60 => 0x33C469B8#32
  | 61 => 0xB3C2CCC7#32
  | 62 => 0x33C143B0#32
  | 63 => 0xB3BFCDE6#32
  | 64 => 0x33BE6AE7#32
  | 65 => 0xB3BD1A36#32
  | 66 => 0x33BBDB61#32
  | 67 => 0xB3BAADFB#32
  | 68 => 0x33B9919E#32
  | 69 => 0xB3B885EC#32
  | 70 => 0x33B78A8A#32
  | 71 => 0xB3B69F28#32
  | 72 => 0x33B5C377#32
  | 73 => 0xB3B4F732#32
  | 74 => 0x33B43A15#32
  | 75 => 0xB3B38BE5#32
  | 76 => 0x33B2EC6A#32
  | 77 => 0xB3B25B72#32
  | 78 => 0x33B1D8CF#32
  | 79 => 0xB3B16459#32
  | 80 => 0x33B0FDEA#32
  | 81 => 0xB3B0A563#32
  | 82 => 0x33B05AA9#32
  | 83 => 0xB3B01DA5#32
  | 84 => 0x33AFEE43#32
  | 85 => 0xB3AFCC75#32
  | 86 => 0x33AFB831#32
  | 87 => 0xB3AFB170#32
  | 88 => 0x33AFB831#32
  | 89 => 0xB3AFCC75#32
  | 90 => 0x33AFEE43#32
  | 91 => 0xB3B01DA5#32
  | 92 => 0x33B05AA9#32
  | 93 => 0xB3B0A563#32
  | 94 => 0x33B0FDEA#32
  | 95 => 0xB3B16459#32
  | 96 => 0x33B1D8CF#32
  | 97 => 0xB3B25B72#32
  | 98 => 0x33B2EC6A#32
  | 99 => 0xB3B38BE5#32
  | 100 => 0x33B43A15#32
  | 101 => 0xB3B4F732#32
  | 102 => 0x33B5C377#32
  | 103 => 0xB3B69F28#32
  | 104 => 0x33B78A8A#32
  | 105 => 0xB3B885EC#32
  | 106 => 0x33B9919E#32
  | 107 => 0xB3BAADFB#32
  | 108 => 0x33BBDB61#32
  | 109 => 0xB3BD1A36#32
  | 110 => 0x33BE6AE7#32
  | 111 => 0xB3BFCDE6#32
  | 112 => 0x33C143B0#32
  | 113 => 0xB3C2CCC7#32
  | 114 => 0x33C469B8#32
  | 115 => 0xB3C61B15#32
  | 116 => 0x33C7E17D#32
  | 117 => 0xB3C9BD97#32
  | 118 => 0x33CBB015#32
  | 119 => 0xB3CDB9B1#32
  | 120 => 0x33CFDB34#32
  | 121 => 0xB3D21572#32
  | 122 => 0x33D4694B#32
  | 123 => 0xB3D6D7AE#32
  | 124 => 0x33D96196#32
  | 125 => 0xB3DC0810#32
  | 126 => 0x33DECC38#32
  | 127 => 0xB3E1AF3D#32
  | _ => 0#32

noncomputable abbrev lit0t0_431 (i : Nat) : BitVec 32 := match i % 128 with
  | 0 => 0x33E4B25D#32
  | 1 => 0xB3E7D6EF#32
  | 2 => 0x33EB1E5A#32
  | 3 => 0xB3EE8A1F#32
  | 4 => 0x33F21BD6#32
  | 5 => 0xB3F5D532#32
  | 6 => 0x33F9B800#32
  | 7 => 0xB3FDC62E#32
  | 8 => 0x340100E3#32
  | 9 => 0xB403367C#32
  | 10 => 0x3405850C#32
  | 11 => 0xB407EDD1#32
  | 12 => 0x340A721F#32
  | 13 => 0xB40D1360#32
  | 14 => 0x340FD31A#32
  | 15 => 0xB412B2ED#32
  | 16 => 0x3415B495#32
  | 17 => 0xB418D9F0#32
  | 18 => 0x341C2500#32
  | 19 => 0xB41F97EA#32
  | 20 => 0x342334FF#32
  | 21 => 0xB426FEBD#32
  | 22 => 0x342AF7D2#32
  | 23 => 0xB42F2322#32
  | 24 => 0x343383CC#32
  | 25 => 0xB4381D32#32
  | 26 => 0x343CF2FA#32
  | 27 => 0xB4420919#32
  | 28 => 0x344763DA#32
  | 29 => 0xB44D07E6#32
  | 30 => 0x3452FA51#32
  | 31 => 0xB45940A1#32
  | 32 => 0x345FE0DA#32
  | 33 => 0xB466E193#32
  | 34 => 0x346E49FF#32
  | 35 => 0xB4762200#32
  | 36 => 0x347E723F#32
  | 37 => 0xB483A221#32
  | 38 => 0x34885142#32
  | 39 => 0xB48D4C4D#32
  | 40 => 0x349299A5#32
  | 41 => 0xB4984061#32
  | 42 => 0x349E485F#32
  | 43 => 0xB4A4BA5F#32
  | 44 => 0x34ABA023#32
  | 45 => 0xB4B30492#32
  | 46 => 0x34BAF3E5#32
  | 47 => 0xB4C37BD6#32
  | 48 => 0x34CCABDA#32
  | 49 => 0xB4D69568#32
  | 50 => 0x34E14C49#32
  | 51 => 0xB4ECE6F7#32
  | 52 => 0x34F97F13#32
  | 53 => 0xB50398F7#32
  | 54 => 0x350B1097#32
  | 55 => 0xB51339CD#32
  | 56 => 0x351C2B08#32
  | 57 => 0xB525FE56#32
  | 58 => 0x3530D21D#32
  | 59 => 0xB53CCA00#32
  | 60 => 0x354A0FF9#32
  | 61 => 0xB558D5BB#32
  | 62 => 0x35695670#32
  | 63 => 0xB57BD8F1#32
  | 64 => 0x3588594C#32
  | 65 => 0xB5942572#32
  | 66 => 0x35A19018#32
  | 67 => 0xB5B0E6EF#32
  | 68 => 0x35C28A3B#32
  | 69 => 0xB5D6F23A#32
  | 70 => 0x35EEB658#32
  | 71 => 0xB6054B76#32
  | 72 => 0x3615C529#32
  | 73 => 0xB6296767#32
  | 74 => 0x3641014B#32
  | 75 => 0xB65DA20C#32
  | 76 => 0x368056F2#32
  | 77 => 0xB695FBC4#32
  | 78 => 0x36B0ED61#32
  | 79 => 0xB6D29E9B#32
  | 80 => 0x36FFBDB2#32
  | 81 => 0xB692EE32#32
  | 82 => 0x391EBB1A#32
  | 83 => 0x3B12D0DF#32
  | 84 => 0x3CA0086D#32
  | 85 => 0x3DBAD58B#32
  | 86 => 0x3E6BB748#32
  | 87 => 0x3EA069FE#32
  | 88 => 0x3E6BB748#32
  | 89 => 0x3DBAD58B#32
  | 90 => 0x3CA0086D#32
  | 91 => 0x3B12D0DF#32
  | 92 => 0x391EBB1A#32
  | 93 => 0xB692EE32#32
  | 94 => 0x36FFBDB2#32
  | 95 => 0xB6D29E9B#32
  | 96 => 0x36B0ED61#32
  | 97 => 0xB695FBC4#32
  | 98 => 0x368056F2#32
  | 99 => 0xB65DA20C#32
  | 100 => 0x3641014B#32
  | 101 => 0xB6296767#32
  | 102 => 0x3615C529#32
  | 103 => 0xB6054B76#32
  | 104 => 0x35EEB658#32
  | 105 => 0xB5D6F23A#32
  | 106 => 0x35C28A3B#32
  | 107 => 0xB5B0E6EF#32
  | 108 => 0x35A19018#32
  | 109 => 0xB5942572#32
  | 110 => 0x3588594C#32
  | 111 => 0xB57BD8F1#32
  | 112 => 0x35695670#32
  | 113 => 0xB558D5BB#32
  | 114 => 0x354A0FF9#32
  | 115 => 0xB53CCA00#32
  | 116 => 0x3530D21D#32
  | 117 => 0xB525FE56#32
  | 118 => 0x351C2B08#32
  | 119 => 0xB51339CD#32
  | 120 => 0x350B1097#32
  | 121 => 0xB50398F7#32
  | 122 => 0x34F97F13#32
  | 123 => 0xB4ECE6F7#32
  | 124 => 0x34E14C49#32
  | 125 => 0xB4D69568#32
  | 126 => 0x34CCABDA#32
  | 127 => 0xB4C37BD6#32
  | _ => 0#32

noncomputable abbrev lit0t0_432 (i : Nat) : BitVec 32 := match i % 128 with
  | 0 => 0xB4C37BD6#32
  | 1 => 0x34BAF3E5#32
  | 2 => 0xB4B30492#32
  | 3 => 0x34ABA023#32
  | 4 => 0xB4A4BA5F#32
  | 5 => 0x349E485F#32
  | 6 => 0xB4984061#32
  | 7 => 0x349299A5#32
  | 8 => 0xB48D4C4D#32
  | 9 => 0x34885143#32
  | 10 => 0xB483A221#32
  | 11 => 0x347E723F#32
  | 12 => 0xB4762200#32
  | 13 => 0x346E49FF#32
  | 14 => 0xB466E193#32
  | 15 => 0x345FE0DA#32
  | 16 => 0xB45940A1#32
  | 17 => 0x3452FA51#32
  | 18 => 0xB44D07E6#32
  | 19 => 0x344763DA#32
  | 20 => 0xB4420919#32
  | 21 => 0x343CF2FA#32
  | 22 => 0xB4381D32#32
  | 23 => 0x343383CC#32
  | 24 => 0xB42F2322#32
  | 25 => 0x342AF7D2#32
  | 26 => 0xB426FEBD#32
  | 27 => 0x342334FF#32
  | 28 => 0xB41F97EA#32
  | 29 => 0x341C2500#32
  | 30 => 0xB418D9F0#32
  | 31 => 0x3415B495#32
  | 32 => 0xB412B2ED#32
  | 33 => 0x340FD31A#32
  | 34 => 0xB40D1360#32
  | 35 => 0x340A721F#32
  | 36 => 0xB407EDD1#32
  | 37 => 0x3405850C#32
  | 38 => 0xB403367C#32
  | 39 => 0x340100E3#32
  | 40 => 0xB3FDC62E#32
  | 41 => 0x33F9B800#32
  | 42 => 0xB3F5D532#32
  | 43 => 0x33F21BD6#32
  | 44 => 0xB3EE8A1F#32
  | 45 => 0x33EB1E5A#32
  | 46 => 0xB3E7D6EF#32
  | 47 => 0x33E4B25D#32
  | 48 => 0xB3E1AF3D#32
  | 49 => 0x33DECC38#32
  | 50 => 0xB3DC0810#32
  | 51 => 0x33D96196#32
  | 52 => 0xB3D6D7AE#32
  | 53 => 0x33D4694B#32
  | 54 => 0xB3D21572#32
  | 55 => 0x33CFDB34#32
  | 56 => 0xB3CDB9B1#32
  | 57 => 0x33CBB015#32
  | 58 => 0xB3C9BD97#32
  | 59 => 0x33C7E17D#32
  | 60 => 0xB3C61B15#32
  | 61 => 0x33C469B8#32
  | 62 => 0xB3C2CCC7#32
  | 63 => 0x33C143B0#32
  | 64 => 0xB3BFCDE6#32
  | 65 => 0x33BE6AE7#32
  | 66 => 0xB3BD1A36#32
  | 67 => 0x33BBDB61#32
  | 68 => 0xB3BAADFB#32
  | 69 => 0x33B9919E#32
  | 70 => 0xB3B885EC#32
  | 71 => 0x33B78A8A#32
  | 72 => 0xB3B69F28#32
  | 73 => 0x33B5C377#32
  | 74 => 0xB3B4F732#32
  | 75 => 0x33B43A15#32
  | 76 => 0xB3B38BE5#32
  | 77 => 0x33B2EC6A#32
  | 78 => 0xB3B25B72#32
  | 79 => 0x33B1D8CF#32
  | 80 => 0xB3B16459#32
  | 81 => 0x33B0FDEA#32
  | 82 => 0xB3B0A563#32
  | 83 => 0x33B05AA9#32
  | 84 => 0xB3B01DA5#32
  | 85 => 0x33AFEE43#32
  | 86 => 0xB3AFCC75#32
  | 87 => 0x33AFB831#32
  | 88 => 0xB3AFB170#32
  | 89 => 0x33AFB831#32
  | 90 => 0xB3AFCC75#32
  | 91 => 0x33AFEE43#32
  | 92 => 0xB3B01DA5#32
  | 93 => 0x33B05AA9#32
  | 94 => 0xB3B0A563#32
  | 95 => 0x33B0FDEA#32
  | 96 => 0xB3B16459#32
  | 97 => 0x33B1D8CF#32
  | 98 => 0xB3B25B72#32
  | 99 => 0x33B2EC6A#32
  | 100 => 0xB3B38BE5#32
  | 101 => 0x33B43A15#32
  | 102 => 0xB3B4F732#32
  | 103 => 0x33B5C377#32
  | 104 => 0xB3B69F28#32
  | 105 => 0x33B78A8A#32
  | 106 => 0xB3B885EC#32
  | 107 => 0x33B9919E#32
  | 108 => 0xB3BAADFB#32
  | 109 => 0x33BBDB61#32
  | 110 => 0xB3BD1A36#32
  | 111 => 0x33BE6AE7#32
  | 112 => 0xB3BFCDE6#32
  | 113 => 0x33C143B0#32
  | 114 => 0xB3C2CCC7#32
  | 115 => 0x33C469B8#32
  | 116 => 0xB3C61B15#32
  | 117 => 0x33C7E17D#32
  | 118 => 0xB3C9BD97#32
  | 119 => 0x33CBB015#32
  | 120 => 0xB3CDB9B1#32
  | 121 => 0x33CFDB34#32
  | 122 => 0xB3D21572#32
  | 123 => 0x33D4694B#32
  | 124 => 0xB3D6D7AE#32
  | 125 => 0x33D96196#32
  | 126 => 0xB3DC0810#32
  | 127 => 0x33DECC38#32
  | _ => 0#32

noncomputable abbrev lit0t0_433 (i : Nat) : BitVec 32 := match i % 128 with
  | 0 => 0xB3E1AF3D#32
  | 1 => 0x33E4B25D#32
  | 2 => 0xB3E7D6EF#32
  | 3 => 0x33EB1E5A#32
  | 4 => 0xB3EE8A1F#32
  | 5 => 0x33F21BD6#32
  | 6 => 0xB3F5D532#32
  | 7 => 0x33F9B800#32
  | 8 => 0xB3FDC62E#32
  | 9 => 0x340100E3#32
  | 10 => 0xB403367C#32
  | 11 => 0x3405850C#32
  | 12 => 0xB407EDD1#32
  | 13 => 0x340A721F#32
  | 14 => 0xB40D1360#32
  | 15 => 0x340FD31A#32
  | 16 => 0xB412B2ED#32
  | 17 => 0x3415B495#32
  | 18 => 0xB418D9F0#32
  | 19 => 0x341C2500#32
  | 20 => 0xB41F97EA#32
  | 21 => 0x342334FF#32
  | 22 => 0xB426FEBD#32
  | 23 => 0x342AF7D2#32
  | 24 => 0xB42F2322#32
  | 25 => 0x343383CC#32
  | 26 => 0xB4381D32#32
  | 27 => 0x343CF2FA#32
  | 28 => 0xB4420919#32
  | 29 => 0x344763DA#32
  | 30 => 0xB44D07E6#32
  | 31 => 0x3452FA51#32
  | 32 => 0xB45940A1#32
  | 33 => 0x345FE0DA#32
  | 34 => 0xB466E193#32
  | 35 => 0x346E49FF#32
  | 36 => 0xB4762200#32
  | 37 => 0x347E723F#32
  | 38 => 0xB483A221#32
  | 39 => 0x34885143#32
  | 40 => 0xB48D4C4D#32
  | 41 => 0x349299A5#32
  | 42 => 0xB4984061#32
  | 43 => 0x349E485F#32
  | 44 => 0xB4A4BA5F#32
  | 45 => 0x34ABA023#32
  | 46 => 0xB4B30492#32
  | 47 => 0x34BAF3E5#32
  | 48 => 0xB4C37BD6#32
  | 49 => 0x34CCABDA#32
  | 50 => 0xB4D69568#32
  | 51 => 0x34E14C49#32
  | 52 => 0xB4ECE6F7#32
  | 53 => 0x34F97F13#32
  | 54 => 0xB50398F7#32
  | 55 => 0x350B1097#32
  | 56 => 0xB51339CD#32
  | 57 => 0x351C2B08#32
  | 58 => 0xB525FE56#32
  | 59 => 0x3530D21D#32
  | 60 => 0xB53CCA00#32
  | 61 => 0x354A0FF9#32
  | 62 => 0xB558D5BB#32
  | 63 => 0x35695670#32
  | 64 => 0xB57BD8F1#32
  | 65 => 0x3588594C#32
  | 66 => 0xB5942572#32
  | 67 => 0x35A19018#32
  | 68 => 0xB5B0E6EF#32
  | 69 => 0x35C28A3B#32
  | 70 => 0xB5D6F23A#32
  | 71 => 0x35EEB658#32
  | 72 => 0xB6054B76#32
  | 73 => 0x3615C529#32
  | 74 => 0xB6296767#32
  | 75 => 0x3641014B#32
  | 76 => 0xB65DA20C#32
  | 77 => 0x368056F2#32
  | 78 => 0xB695FBC4#32
  | 79 => 0x36B0ED61#32
  | 80 => 0xB6D29E9B#32
  | 81 => 0x36FFBDB2#32
  | 82 => 0xB692EE32#32
  | 83 => 0x391EBB1A#32
  | 84 => 0x3B12D0DF#32
  | 85 => 0x3CA0086D#32
  | 86 => 0x3DBAD58B#32
  | 87 => 0x3E6BB748#32
  | 88 => 0x3EA069FE#32
  | 89 => 0x3E6BB748#32
  | 90 => 0x3DBAD58B#32
  | 91 => 0x3CA0086D#32
  | 92 => 0x3B12D0DF#32
  | 93 => 0x391EBB1A#32
  | 94 => 0xB692EE32#32
  | 95 => 0x36FFBDB2#32
  | 96 => 0xB6D29E9B#32
  | 97 => 0x36B0ED61#32
  | 98 => 0xB695FBC4#32
  | 99 => 0x368056F2#32
  | 100 => 0xB65DA20C#32
  | 101 => 0x3641014B#32
  | 102 => 0xB6296767#32
  | 103 => 0x3615C529#32
  | 104 => 0xB6054B76#32
  | 105 => 0x35EEB658#32
  | 106 => 0xB5D6F23A#32
  | 107 => 0x35C28A3B#32
  | 108 => 0xB5B0E6EF#32
  | 109 => 0x35A19018#32
  | 110 => 0xB5942572#32
  | 111 => 0x3588594C#32
  | 112 => 0xB57BD8F1#32
  | 113 => 0x35695670#32
  | 114 => 0xB558D5BB#32
  | 115 => 0x354A0FF9#32
  | 116 => 0xB53CCA00#32
  | 117 => 0x3530D21D#32
  | 118 => 0xB525FE56#32
  | 119 => 0x351C2B08#32
  | 120 => 0xB51339CD#32
  | 121 => 0x350B1097#32
  | 122 => 0xB50398F7#32
  | 123 => 0x34F97F13#32
  | 124 => 0xB4ECE6F7#32
  | 125 => 0x34E14C49#32
  | 126 => 0xB4D69568#32
  | 127 => 0x34CCABDA#32
  | _ => 0#32

noncomputable abbrev lit0t0_434 (i : Nat) : BitVec 32 := match i % 128 with
  | 0 => 0x34CCABDA#32
  | 1 => 0xB4C37BD6#32
  | 2 => 0x34BAF3E5#32
  | 3 => 0xB4B30492#32
  | 4 => 0x34ABA023#32
  | 5 => 0xB4A4BA5F#32
  | 6 => 0x349E485F#32
  | 7 => 0xB4984061#32
  | 8 => 0x349299A5#32
  | 9 => 0xB48D4C4D#32
  | 10 => 0x34885143#32
  | 11 => 0xB483A221#32
  | 12 => 0x347E723F#32
  | 13 => 0xB4762200#32
  | 14 => 0x346E49FF#32
  | 15 => 0xB466E193#32
  | 16 => 0x345FE0DA#32
  | 17 => 0xB45940A1#32
  | 18 => 0x3452FA51#32
  | 19 => 0xB44D07E6#32
  | 20 => 0x344763DA#32
  | 21 => 0xB4420919#32
  | 22 => 0x343CF2FA#32
  | 23 => 0xB4381D32#32
  | 24 => 0x343383CC#32
  | 25 => 0xB42F2322#32
  | 26 => 0x342AF7D2#32
  | 27 => 0xB426FEBD#32
  | 28 => 0x342334FF#32
  | 29 => 0xB41F97EA#32
  | 30 => 0x341C2500#32
  | 31 => 0xB418D9F0#32
  | 32 => 0x3415B495#32
  | 33 => 0xB412B2ED#32
  | 34 => 0x340FD31A#32
  | 35 => 0xB40D1360#32
  | 36 => 0x340A721F#32
  | 37 => 0xB407EDD1#32
  | 38 => 0x3405850C#32
  | 39 => 0xB403367C#32
  | 40 => 0x340100E3#32
  | 41 => 0xB3FDC62E#32
  | 42 => 0x33F9B800#32
  | 43 => 0xB3F5D532#32
  | 44 => 0x33F21BD6#32
  | 45 => 0xB3EE8A1F#32
  | 46 => 0x33EB1E5A#32
  | 47 => 0xB3E7D6EF#32
  | 48 => 0x33E4B25D#32
  | 49 => 0xB3E1AF3D#32
  | 50 => 0x33DECC38#32
  | 51 => 0xB3DC0810#32
  | 52 => 0x33D96196#32
  | 53 => 0xB3D6D7AE#32
  | 54 => 0x33D4694B#32
  | 55 => 0xB3D21572#32
  | 56 => 0x33CFDB34#32
  | 57 => 0xB3CDB9B1#32
  | 58 => 0x33CBB015#32
  | 59 => 0xB3C9BD97#32
  | 60 => 0x33C7E17D#32
  | 61 => 0xB3C61B15#32
  | 62 => 0x33C469B8#32
  | 63 => 0xB3C2CCC7#32
  | 64 => 0x33C143B0#32
  | 65 => 0xB3BFCDE6#32
  | 66 => 0x33BE6AE7#32
  | 67 => 0xB3BD1A36#32
  | 68 => 0x33BBDB61#32
  | 69 => 0xB3BAADFB#32
  | 70 => 0x33B9919E#32
  | 71 => 0xB3B885EC#32
  | 72 => 0x33B78A8A#32
  | 73 => 0xB3B69F28#32
  | 74 => 0x33B5C377#32
  | 75 => 0xB3B4F732#32
  | 76 => 0x33B43A15#32
  | 77 => 0xB3B38BE5#32
  | 78 => 0x33B2EC6A#32
  | 79 => 0xB3B25B72#32
  | 80 => 0x33B1D8CF#32
  | 81 => 0xB3B16459#32
  | 82 => 0x33B0FDEA#32
  | 83 => 0xB3B0A563#32
  | 84 => 0x33B05AA9#32
  | 85 => 0xB3B01DA5#32
  | 86 => 0x33AFEE43#32
  | 87 => 0xB3AFCC75#32
  | 88 => 0x33AFB831#32
  | 89 => 0xB3AFB170#32
  | 90 => 0x33AFB831#32
  | 91 => 0xB3AFCC75#32
  | 92 => 0x33AFEE43#32
  | 93 => 0xB3B01DA5#32
  | 94 => 0x33B05AA9#32
  | 95 => 0xB3B0A563#32
  | 96 => 0x33B0FDEA#32
  | 97 => 0xB3B16459#32
  | 98 => 0x33B1D8CF#32
  | 99 => 0xB3B25B72#32
  | 100 => 0x33B2EC6A#32
  | 101 => 0xB3B38BE5#32
  | 102 => 0x33B43A15#32
  | 103 => 0xB3B4F732#32
  | 104 => 0x33B5C377#32
  | 105 => 0xB3B69F28#32
  | 106 => 0x33B78A8A#32
  | 107 => 0xB3B885EC#32
  | 108 => 0x33B9919E#32
  | 109 => 0xB3BAADFB#32
  | 110 => 0x33BBDB61#32
  | 111 => 0xB3BD1A36#32
  | 112 => 0x33BE6AE7#32
  | 113 => 0xB3BFCDE6#32
  | 114 => 0x33C143B0#32
  | 115 => 0xB3C2CCC7#32
  | 116 => 0x33C469B8#32
  | 117 => 0xB3C61B15#32
  | 118 => 0x33C7E17D#32
  | 119 => 0xB3C9BD97#32
  | 120 => 0x33CBB015#32
  | 121 => 0xB3CDB9B1#32
  | 122 => 0x33CFDB34#32
  | 123 => 0xB3D21572#32
  | 124 => 0x33D4694B#32
  | 125 => 0xB3D6D7AE#32
  | 126 => 0x33D96196#32
  | 127 => 0xB3DC0810#32
  | _ => 0#32

noncomputable abbrev lit0t0_435 (i : Nat) : BitVec 32 := match i % 128 with
  | 0 => 0x33DECC38#32
  | 1 => 0xB3E1AF3D#32
  | 2 => 0x33E4B25D#32
  | 3 => 0xB3E7D6EF#32
  | 4 => 0x33EB1E5A#32
  | 5 => 0xB3EE8A1F#32
  | 6 => 0x33F21BD6#32
  | 7 => 0xB3F5D532#32
  | 8 => 0x33F9B800#32
  | 9 => 0xB3FDC62E#32
  | 10 => 0x340100E3#32
  | 11 => 0xB403367C#32
  | 12 => 0x3405850C#32
  | 13 => 0xB407EDD1#32
  | 14 => 0x340A721F#32
  | 15 => 0xB40D1360#32
  | 16 => 0x340FD31A#32
  | 17 => 0xB412B2ED#32
  | 18 => 0x3415B495#32
  | 19 => 0xB418D9F0#32
  | 20 => 0x341C2500#32
  | 21 => 0xB41F97EA#32
  | 22 => 0x342334FF#32
  | 23 => 0xB426FEBD#32
  | 24 => 0x342AF7D2#32
  | 25 => 0xB42F2322#32
  | 26 => 0x343383CC#32
  | 27 => 0xB4381D32#32
  | 28 => 0x343CF2FA#32
  | 29 => 0xB4420919#32
  | 30 => 0x344763DA#32
  | 31 => 0xB44D07E6#32
  | 32 => 0x3452FA51#32
  | 33 => 0xB45940A1#32
  | 34 => 0x345FE0DA#32
  | 35 => 0xB466E193#32
  | 36 => 0x346E49FF#32
  | 37 => 0xB4762200#32
  | 38 => 0x347E723F#32
  | 39 => 0xB483A221#32
  | 40 => 0x34885143#32
  | 41 => 0xB48D4C4D#32
  | 42 => 0x349299A5#32
  | 43 => 0xB4984061#32
  | 44 => 0x349E485F#32
  | 45 => 0xB4A4BA5F#32
  | 46 => 0x34ABA023#32
  | 47 => 0xB4B30492#32
  | 48 => 0x34BAF3E5#32
  | 49 => 0xB4C37BD6#32
  | 50 => 0x34CCABDA#32
  | 51 => 0xB4D69568#32
  | 52 => 0x34E14C49#32
  | 53 => 0xB4ECE6F7#32
  | 54 => 0x34F97F13#32
  | 55 => 0xB50398F7#32
  | 56 => 0x350B1097#32
  | 57 => 0xB51339CD#32
  | 58 => 0x351C2B08#32
  | 59 => 0xB525FE56#32
  | 60 => 0x3530D21D#32
  | 61 => 0xB53CCA00#32
  | 62 => 0x354A0FF9#32
  | 63 => 0xB558D5BB#32
  | 64 => 0x35695670#32
  | 65 => 0xB57BD8F1#32
  | 66 => 0x3588594C#32
  | 67 => 0xB5942572#32
  | 68 => 0x35A19018#32
  | 69 => 0xB5B0E6EF#32
  | 70 => 0x35C28A3B#32
  | 71 => 0xB5D6F23A#32
  | 72 => 0x35EEB658#32
  | 73 => 0xB6054B76#32
  | 74 => 0x3615C529#32
  | 75 => 0xB6296767#32
  | 76 => 0x3641014B#32
  | 77 => 0xB65DA20C#32
  | 78 => 0x368056F2#32
  | 79 => 0xB695FBC4#32
  | 80 => 0x36B0ED61#32
  | 81 => 0xB6D29E9B#32
  | 82 => 0x36FFBDB2#32
  | 83 => 0xB692EE32#32
  | 84 => 0x391EBB1A#32
  | 85 => 0x3B12D0DF#32
  | 86 => 0x3CA0086D#32
  | 87 => 0x3DBAD58B#32
  | 88 => 0x3E6BB748#32
  | 89 => 0x3EA069FE#32
  | 90 => 0x3E6BB748#32
  | 91 => 0x3DBAD58B#32
  | 92 => 0x3CA0086D#32
  | 93 => 0x3B12D0DF#32
  | 94 => 0x391EBB1A#32
  | 95 => 0xB692EE32#32
  | 96 => 0x36FFBDB2#32
  | 97 => 0xB6D29E9B#32
  | 98 => 0x36B0ED61#32
  | 99 => 0xB695FBC4#32
  | 100 => 0x368056F2#32
  | 101 => 0xB65DA20C#32
  | 102 => 0x3641014B#32
  | 103 => 0xB6296767#32
  | 104 => 0x3615C529#32
  | 105 => 0xB6054B76#32
  | 106 => 0x35EEB658#32
  | 107 => 0xB5D6F23A#32
  | 108 => 0x35C28A3B#32
  | 109 => 0xB5B0E6EF#32
  | 110 => 0x35A19018#32
  | 111 => 0xB5942572#32
  | 112 => 0x3588594C#32
  | 113 => 0xB57BD8F1#32
  | 114 => 0x35695670#32
  | 115 => 0xB558D5BB#32
  | 116 => 0x354A0FF9#32
  | 117 => 0xB53CCA00#32
  | 118 => 0x3530D21D#32
  | 119 => 0xB525FE56#32
  | 120 => 0x351C2B08#32
  | 121 => 0xB51339CD#32
  | 122 => 0x350B1097#32
  | 123 => 0xB50398F7#32
  | 124 => 0x34F97F13#32
  | 125 => 0xB4ECE6F7#32
  | 126 => 0x34E14C49#32
  | 127 => 0xB4D69568#32
  | _ => 0#32

noncomputable abbrev lit0t0_436 (i : Nat) : BitVec 32 := match i % 128 with
  | 0 => 0xB4D69568#32
  | 1 => 0x34CCABDA#32
  | 2 => 0xB4C37BD6#32
  | 3 => 0x34BAF3E5#32
  | 4 => 0xB4B30492#32
  | 5 => 0x34ABA023#32
  | 6 => 0xB4A4BA5F#32
  | 7 => 0x349E485F#32
  | 8 => 0xB4984061#32
  | 9 => 0x349299A5#32
  | 10 => 0xB48D4C4D#32
  | 11 => 0x34885143#32
  | 12 => 0xB483A221#32
  | 13 => 0x347E723F#32
  | 14 => 0xB4762200#32
  | 15 => 0x346E49FF#32
  | 16 => 0xB466E193#32
  | 17 => 0x345FE0DA#32
  | 18 => 0xB45940A1#32
  | 19 => 0x3452FA51#32
  | 20 => 0xB44D07E6#32
  | 21 => 0x344763DA#32
  | 22 => 0xB4420919#32
  | 23 => 0x343CF2FA#32
  | 24 => 0xB4381D32#32
  | 25 => 0x343383CC#32
  | 26 => 0xB42F2322#32
  | 27 => 0x342AF7D2#32
  | 28 => 0xB426FEBD#32
  | 29 => 0x342334FF#32
  | 30 => 0xB41F97EA#32
  | 31 => 0x341C2500#32
  | 32 => 0xB418D9F0#32
  | 33 => 0x3415B495#32
  | 34 => 0xB412B2ED#32
  | 35 => 0x340FD31A#32
  | 36 => 0xB40D1360#32
  | 37 => 0x340A721F#32
  | 38 => 0xB407EDD1#32
  | 39 => 0x3405850C#32
  | 40 => 0xB403367C#32
  | 41 => 0x340100E3#32
  | 42 => 0xB3FDC62E#32
  | 43 => 0x33F9B800#32
  | 44 => 0xB3F5D532#32
  | 45 => 0x33F21BD6#32
  | 46 => 0xB3EE8A1F#32
  | 47 => 0x33EB1E5A#32
  | 48 => 0xB3E7D6EF#32
  | 49 => 0x33E4B25D#32
  | 50 => 0xB3E1AF3D#32
  | 51 => 0x33DECC38#32
  | 52 => 0xB3DC0810#32
  | 53 => 0x33D96196#32
  | 54 => 0xB3D6D7AE#32
  | 55 => 0x33D4694B#32
  | 56 => 0xB3D21572#32
  | 57 => 0x33CFDB34#32
  | 58 => 0xB3CDB9B1#32
  | 59 => 0x33CBB015#32
  | 60 => 0xB3C9BD97#32
  | 61 => 0x33C7E17D#32
  | 62 => 0xB3C61B15#32
  | 63 => 0x33C469B8#32
  | 64 => 0xB3C2CCC7#32
  | 65 => 0x33C143B0#32
  | 66 => 0xB3BFCDE6#32
  | 67 => 0x33BE6AE7#32
  | 68 => 0xB3BD1A36#32
  | 69 => 0x33BBDB61#32
  | 70 => 0xB3BAADFB#32
  | 71 => 0x33B9919E#32
  | 72 => 0xB3B885EC#32
  | 73 => 0x33B78A8A#32
  | 74 => 0xB3B69F28#32
  | 75 => 0x33B5C377#32
  | 76 => 0xB3B4F732#32
  | 77 => 0x33B43A15#32
  | 78 => 0xB3B38BE5#32
  | 79 => 0x33B2EC6A#32
  | 80 => 0xB3B25B72#32
  | 81 => 0x33B1D8CF#32
  | 82 => 0xB3B16459#32
  | 83 => 0x33B0FDEA#32
  | 84 => 0xB3B0A563#32
  | 85 => 0x33B05AA9#32
  | 86 => 0xB3B01DA5#32
  | 87 => 0x33AFEE43#32
  | 88 => 0xB3AFCC75#32
  | 89 => 0x33AFB831#32
  | 90 => 0xB3AFB170#32
  | 91 => 0x33AFB831#32
  | 92 => 0xB3AFCC75#32
  | 93 => 0x33AFEE43#32
  | 94 => 0xB3B01DA5#32
  | 95 => 0x33B05AA9#32
  | 96 => 0xB3B0A563#32
  | 97 => 0x33B0FDEA#32
  | 98 => 0xB3B16459#32
  | 99 => 0x33B1D8CF#32
  | 100 => 0xB3B25B72#32
  | 101 => 0x33B2EC6A#32
  | 102 => 0xB3B38BE5#32
  | 103 => 0x33B43A15#32
  | 104 => 0xB3B4F732#32
  | 105 => 0x33B5C377#32
  | 106 => 0xB3B69F28#32
  | 107 => 0x33B78A8A#32
  | 108 => 0xB3B885EC#32
  | 109 => 0x33B9919E#32
  | 110 => 0xB3BAADFB#32
  | 111 => 0x33BBDB61#32
  | 112 => 0xB3BD1A36#32
  | 113 => 0x33BE6AE7#32
  | 114 => 0xB3BFCDE6#32
  | 115 => 0x33C143B0#32
  | 116 => 0xB3C2CCC7#32
  | 117 => 0x33C469B8#32
  | 118 => 0xB3C61B15#32
  | 119 => 0x33C7E17D#32
  | 120 => 0xB3C9BD97#32
  | 121 => 0x33CBB015#32
  | 122 => 0xB3CDB9B1#32
  | 123 => 0x33CFDB34#32
  | 124 => 0xB3D21572#32
  | 125 => 0x33D4694B#32
  | 126 => 0xB3D6D7AE#32
  | 127 => 0x33D96196#32
  | _ => 0#32

noncomputable abbrev lit0t0_437 (i : Nat) : BitVec 32 := match i % 128 with
  | 0 => 0xB3DC0810#32
  | 1 => 0x33DECC38#32
  | 2 => 0xB3E1AF3D#32
  | 3 => 0x33E4B25D#32
  | 4 => 0xB3E7D6EF#32
  | 5 => 0x33EB1E5A#32
  | 6 => 0xB3EE8A1F#32
  | 7 => 0x33F21BD6#32
  | 8 => 0xB3F5D532#32
  | 9 => 0x33F9B800#32
  | 10 => 0xB3FDC62E#32
  | 11 => 0x340100E3#32
  | 12 => 0xB403367C#32
  | 13 => 0x3405850C#32
  | 14 => 0xB407EDD1#32
  | 15 => 0x340A721F#32
  | 16 => 0xB40D1360#32
  | 17 => 0x340FD31A#32
  | 18 => 0xB412B2ED#32
  | 19 => 0x3415B495#32
  | 20 => 0xB418D9F0#32
  | 21 => 0x341C2500#32
  | 22 => 0xB41F97EA#32
  | 23 => 0x342334FF#32
  | 24 => 0xB426FEBD#32
  | 25 => 0x342AF7D2#32
  | 26 => 0xB42F2322#32
  | 27 => 0x343383CC#32
  | 28 => 0xB4381D32#32
  | 29 => 0x343CF2FA#32
  | 30 => 0xB4420919#32
  | 31 => 0x344763DA#32
  | 32 => 0xB44D07E6#32
  | 33 => 0x3452FA51#32
  | 34 => 0xB45940A1#32
  | 35 => 0x345FE0DA#32
  | 36 => 0xB466E193#32
  | 37 => 0x346E49FF#32
  | 38 => 0xB4762200#32
  | 39 => 0x347E723F#32
  | 40 => 0xB483A221#32
  | 41 => 0x34885143#32
  | 42 => 0xB48D4C4D#32
  | 43 => 0x349299A5#32
  | 44 => 0xB4984061#32
  | 45 => 0x349E485F#32
  | 46 => 0xB4A4BA5F#32
  | 47 => 0x34ABA023#32
  | 48 => 0xB4B30492#32
  | 49 => 0x34BAF3E5#32
  | 50 => 0xB4C37BD6#32
  | 51 => 0x34CCABDA#32
  | 52 => 0xB4D69568#32
  | 53 => 0x34E14C49#32
  | 54 => 0xB4ECE6F7#32
  | 55 => 0x34F97F13#32
  | 56 => 0xB50398F7#32
  | 57 => 0x350B1097#32
  | 58 => 0xB51339CD#32
  | 59 => 0x351C2B08#32
  | 60 => 0xB525FE56#32
  | 61 => 0x3530D21D#32
  | 62 => 0xB53CCA00#32
  | 63 => 0x354A0FF9#32
  | 64 => 0xB558D5BB#32
  | 65 => 0x35695670#32
  | 66 => 0xB57BD8F1#32
  | 67 => 0x3588594C#32
  | 68 => 0xB5942572#32
  | 69 => 0x35A19018#32
  | 70 => 0xB5B0E6EF#32
  | 71 => 0x35C28A3B#32
  | 72 => 0xB5D6F23A#32
  | 73 => 0x35EEB658#32
  | 74 => 0xB6054B76#32
  | 75 => 0x3615C529#32
  | 76 => 0xB6296767#32
  | 77 => 0x3641014B#32
  | 78 => 0xB65DA20C#32
  | 79 => 0x368056F2#32
  | 80 => 0xB695FBC4#32
  | 81 => 0x36B0ED61#32
  | 82 => 0xB6D29E9B#32
  | 83 => 0x36FFBDB2#32
  | 84 => 0xB692EE32#32
  | 85 => 0x391EBB1A#32
  | 86 => 0x3B12D0DF#32
  | 87 => 0x3CA0086D#32
  | 88 => 0x3DBAD58B#32
  | 89 => 0x3E6BB748#32
  | 90 => 0x3EA069FE#32
  | 91 => 0x3E6BB748#32
  | 92 => 0x3DBAD58B#32
  | 93 => 0x3CA0086D#32
  | 94 => 0x3B12D0DF#32
  | 95 => 0x391EBB1A#32
  | 96 => 0xB692EE32#32
  | 97 => 0x36FFBDB2#32
  | 98 => 0xB6D29E9B#32
  | 99 => 0x36B0ED61#32
  | 100 => 0xB695FBC4#32
  | 101 => 0x368056F2#32
  | 102 => 0xB65DA20C#32
  | 103 => 0x3641014B#32
  | 104 => 0xB6296767#32
  | 105 => 0x3615C529#32
  | 106 => 0xB6054B76#32
  | 107 => 0x35EEB658#32
  | 108 => 0xB5D6F23A#32
  | 109 => 0x35C28A3B#32
  | 110 => 0xB5B0E6EF#32
  | 111 => 0x35A19018#32
  | 112 => 0xB5942572#32
  | 113 => 0x3588594C#32
  | 114 => 0xB57BD8F1#32
  | 115 => 0x35695670#32
  | 116 => 0xB558D5BB#32
  | 117 => 0x354A0FF9#32
  | 118 => 0xB53CCA00#32
  | 119 => 0x3530D21D#32
  | 120 => 0xB525FE56#32
  | 121 => 0x351C2B08#32
  | 122 => 0xB51339CD#32
  | 123 => 0x350B1097#32
  | 124 => 0xB50398F7#32
  | 125 => 0x34F97F13#32
  | 126 => 0xB4ECE6F7#32
  | 127 => 0x34E14C49#32
  | _ => 0#32

noncomputable abbrev lit0t0_438 (i : Nat) : BitVec 32 := match i % 128 with
  | 0 => 0x34E14C49#32
  | 1 => 0xB4D69568#32
  | 2 => 0x34CCABDA#32
  | 3 => 0xB4C37BD6#32
  | 4 => 0x34BAF3E5#32
  | 5 => 0xB4B30492#32
  | 6 => 0x34ABA023#32
  | 7 => 0xB4A4BA5F#32
  | 8 => 0x349E485F#32
  | 9 => 0xB4984061#32
  | 10 => 0x349299A5#32
  | 11 => 0xB48D4C4D#32
  | 12 => 0x34885143#32
  | 13 => 0xB483A221#32
  | 14 => 0x347E723F#32
  | 15 => 0xB4762200#32
  | 16 => 0x346E49FF#32
  | 17 => 0xB466E193#32
  | 18 => 0x345FE0DA#32
  | 19 => 0xB45940A1#32
  | 20 => 0x3452FA51#32
  | 21 => 0xB44D07E6#32
  | 22 => 0x344763DA#32
  | 23 => 0xB4420919#32
  | 24 => 0x343CF2FA#32
  | 25 => 0xB4381D32#32
  | 26 => 0x343383CC#32
  | 27 => 0xB42F2322#32
  | 28 => 0x342AF7D2#32
  | 29 => 0xB426FEBD#32
  | 30 => 0x342334FF#32
  | 31 => 0xB41F97EA#32
  | 32 => 0x341C2500#32
  | 33 => 0xB418D9F0#32
  | 34 => 0x3415B495#32
  | 35 => 0xB412B2ED#32
  | 36 => 0x340FD31A#32
  | 37 => 0xB40D1360#32
  | 38 => 0x340A721F#32
  | 39 => 0xB407EDD1#32
  | 40 => 0x3405850C#32
  | 41 => 0xB403367C#32
  | 42 => 0x340100E3#32
  | 43 => 0xB3FDC62E#32
  | 44 => 0x33F9B800#32
  | 45 => 0xB3F5D532#32
  | 46 => 0x33F21BD6#32
  | 47 => 0xB3EE8A1F#32
  | 48 => 0x33EB1E5A#32
  | 49 => 0xB3E7D6EF#32
  | 50 => 0x33E4B25D#32
  | 51 => 0xB3E1AF3D#32
  | 52 => 0x33DECC38#32
  | 53 => 0xB3DC0810#32
  | 54 => 0x33D96196#32
  | 55 => 0xB3D6D7AE#32
  | 56 => 0x33D4694B#32
  | 57 => 0xB3D21572#32
  | 58 => 0x33CFDB34#32
  | 59 => 0xB3CDB9B1#32
  | 60 => 0x33CBB015#32
  | 61 => 0xB3C9BD97#32
  | 62 => 0x33C7E17D#32
  | 63 => 0xB3C61B15#32
  | 64 => 0x33C469B8#32
  | 65 => 0xB3C2CCC7#32
  | 66 => 0x33C143B0#32
  | 67 => 0xB3BFCDE6#32
  | 68 => 0x33BE6AE7#32
  | 69 => 0xB3BD1A36#32
  | 70 => 0x33BBDB61#32
  | 71 => 0xB3BAADFB#32
  | 72 => 0x33B9919E#32
  | 73 => 0xB3B885EC#32
  | 74 => 0x33B78A8A#32
  | 75 => 0xB3B69F28#32
  | 76 => 0x33B5C377#32
  | 77 => 0xB3B4F732#32
  | 78 => 0x33B43A15#32
  | 79 => 0xB3B38BE5#32
  | 80 => 0x33B2EC6A#32
  | 81 => 0xB3B25B72#32
  | 82 => 0x33B1D8CF#32
  | 83 => 0xB3B16459#32
  | 84 => 0x33B0FDEA#32
  | 85 => 0xB3B0A563#32
  | 86 => 0x33B05AA9#32
  | 87 => 0xB3B01DA5#32
  | 88 => 0x33AFEE43#32
  | 89 => 0xB3AFCC75#32
  | 90 => 0x33AFB831#32
  | 91 => 0xB3AFB170#32
  | 92 => 0x33AFB831#32
  | 93 => 0xB3AFCC75#32
  | 94 => 0x33AFEE43#32
  | 95 => 0xB3B01DA5#32
  | 96 => 0x33B05AA9#32
  | 97 => 0xB3B0A563#32
  | 98 => 0x33B0FDEA#32
  | 99 => 0xB3B16459#32
  | 100 => 0x33B1D8CF#32
  | 101 => 0xB3B25B72#32
  | 102 => 0x33B2EC6A#32
  | 103 => 0xB3B38BE5#32
  | 104 => 0x33B43A15#32
  | 105 => 0xB3B4F732#32
  | 106 => 0x33B5C377#32
  | 107 => 0xB3B69F28#32
  | 108 => 0x33B78A8A#32
  | 109 => 0xB3B885EC#32
  | 110 => 0x33B9919E#32
  | 111 => 0xB3BAADFB#32
  | 112 => 0x33BBDB61#32
  | 113 => 0xB3BD1A36#32
  | 114 => 0x33BE6AE7#32
  | 115 => 0xB3BFCDE6#32
  | 116 => 0x33C143B0#32
  | 117 => 0xB3C2CCC7#32
  | 118 => 0x33C469B8#32
  | 119 => 0xB3C61B15#32
  | 120 => 0x33C7E17D#32
  | 121 => 0xB3C9BD97#32
  | 122 => 0x33CBB015#32
  | 123 => 0xB3CDB9B1#32
  | 124 => 0x33CFDB34#32
  | 125 => 0xB3D21572#32
  | 126 => 0x33D4694B#32
  | 127 => 0xB3D6D7AE#32
  | _ => 0#32

noncomputable abbrev lit0t0_439 (i : Nat) : BitVec 32 := match i % 128 with
  | 0 => 0x33D96196#32
  | 1 => 0xB3DC0810#32
  | 2 => 0x33DECC38#32
  | 3 => 0xB3E1AF3D#32
  | 4 => 0x33E4B25D#32
  | 5 => 0xB3E7D6EF#32
  | 6 => 0x33EB1E5A#32
  | 7 => 0xB3EE8A1F#32
  | 8 => 0x33F21BD6#32
  | 9 => 0xB3F5D532#32
  | 10 => 0x33F9B800#32
  | 11 => 0xB3FDC62E#32
  | 12 => 0x340100E3#32
  | 13 => 0xB403367C#32
  | 14 => 0x3405850C#32
  | 15 => 0xB407EDD1#32
  | 16 => 0x340A721F#32
  | 17 => 0xB40D1360#32
  | 18 => 0x340FD31A#32
  | 19 => 0xB412B2ED#32
  | 20 => 0x3415B495#32
  | 21 => 0xB418D9F0#32
  | 22 => 0x341C2500#32
  | 23 => 0xB41F97EA#32
  | 24 => 0x342334FF#32
  | 25 => 0xB426FEBD#32
  | 26 => 0x342AF7D2#32
  | 27 => 0xB42F2322#32
  | 28 => 0x343383CC#32
  | 29 => 0xB4381D32#32
  | 30 => 0x343CF2FA#32
  | 31 => 0xB4420919#32
  | 32 => 0x344763DA#32
  | 33 => 0xB44D07E6#32
  | 34 => 0x3452FA51#32
  | 35 => 0xB45940A1#32
  | 36 => 0x345FE0DA#32
  | 37 => 0xB466E193#32
  | 38 => 0x346E49FF#32
  | 39 => 0xB4762200#32
  | 40 => 0x347E723F#32
  | 41 => 0xB483A221#32
  | 42 => 0x34885143#32
  | 43 => 0xB48D4C4D#32
  | 44 => 0x349299A5#32
  | 45 => 0xB4984061#32
  | 46 => 0x349E485F#32
  | 47 => 0xB4A4BA5F#32
  | 48 => 0x34ABA023#32
  | 49 => 0xB4B30492#32
  | 50 => 0x34BAF3E5#32
  | 51 => 0xB4C37BD6#32
  | 52 => 0x34CCABDA#32
  | 53 => 0xB4D69568#32
  | 54 => 0x34E14C49#32
  | 55 => 0xB4ECE6F7#32
  | 56 => 0x34F97F13#32
  | 57 => 0xB50398F7#32
  | 58 => 0x350B1097#32
  | 59 => 0xB51339CD#32
  | 60 => 0x351C2B08#32
  | 61 => 0xB525FE56#32
  | 62 => 0x3530D21D#32
  | 63 => 0xB53CCA00#32
  | 64 => 0x354A0FF9#32
  | 65 => 0xB558D5BB#32
  | 66 => 0x35695670#32
  | 67 => 0xB57BD8F1#32
  | 68 => 0x3588594C#32
  | 69 => 0xB5942572#32
  | 70 => 0x35A19018#32
  | 71 => 0xB5B0E6EF#32
  | 72 => 0x35C28A3B#32
  | 73 => 0xB5D6F23A#32
  | 74 => 0x35EEB658#32
  | 75 => 0xB6054B76#32
  | 76 => 0x3615C529#32
  | 77 => 0xB6296767#32
  | 78 => 0x3641014B#32
  | 79 => 0xB65DA20C#32
  | 80 => 0x368056F2#32
  | 81 => 0xB695FBC4#32
  | 82 => 0x36B0ED61#32
  | 83 => 0xB6D29E9B#32
  | 84 => 0x36FFBDB2#32
  | 85 => 0xB692EE32#32
  | 86 => 0x391EBB1A#32
  | 87 => 0x3B12D0DF#32
  | 88 => 0x3CA0086D#32
  | 89 => 0x3DBAD58B#32
  | 90 => 0x3E6BB748#32
  | 91 => 0x3EA069FE#32
  | 92 => 0x3E6BB748#32
  | 93 => 0x3DBAD58B#32
  | 94 => 0x3CA0086D#32
  | 95 => 0x3B12D0DF#32
  | 96 => 0x391EBB1A#32
  | 97 => 0xB692EE32#32
  | 98 => 0x36FFBDB2#32
  | 99 => 0xB6D29E9B#32
  | 100 => 0x36B0ED61#32
  | 101 => 0xB695FBC4#32
  | 102 => 0x368056F2#32
  | 103 => 0xB65DA20C#32
  | 104 => 0x3641014B#32
  | 105 => 0xB6296767#32
  | 106 => 0x3615C529#32
  | 107 => 0xB6054B76#32
  | 108 => 0x35EEB658#32
  | 109 => 0xB5D6F23A#32
  | 110 => 0x35C28A3B#32
  | 111 => 0xB5B0E6EF#32
  | 112 => 0x35A19018#32
  | 113 => 0xB5942572#32
  | 114 => 0x3588594C#32
  | 115 => 0xB57BD8F1#32
  | 116 => 0x35695670#32
  | 117 => 0xB558D5BB#32
  | 118 => 0x354A0FF9#32
  | 119 => 0xB53CCA00#32
  | 120 => 0x3530D21D#32
  | 121 => 0xB525FE56#32
  | 122 => 0x351C2B08#32
  | 123 => 0xB51339CD#32
  | 124 => 0x350B1097#32
  | 125 => 0xB50398F7#32
  | 126 => 0x34F97F13#32
  | 127 => 0xB4ECE6F7#32
  | _ => 0#32

noncomputable abbrev lit0t0_440 (i : Nat) : BitVec 32 := match i % 128 with
  | 0 => 0xB4ECE6F7#32
  | 1 => 0x34E14C49#32
  | 2 => 0xB4D69568#32
  | 3 => 0x34CCABDA#32
  | 4 => 0xB4C37BD6#32
  | 5 => 0x34BAF3E5#32
  | 6 => 0xB4B30492#32
  | 7 => 0x34ABA023#32
  | 8 => 0xB4A4BA5F#32
  | 9 => 0x349E485F#32
  | 10 => 0xB4984061#32
  | 11 => 0x349299A5#32
  | 12 => 0xB48D4C4D#32
  | 13 => 0x34885142#32
  | 14 => 0xB483A221#32
  | 15 => 0x347E723F#32
  | 16 => 0xB4762200#32
  | 17 => 0x346E49FF#32
  | 18 => 0xB466E193#32
  | 19 => 0x345FE0DA#32
  | 20 => 0xB45940A1#32
  | 21 => 0x3452FA51#32
  | 22 => 0xB44D07E6#32
  | 23 => 0x344763DA#32
  | 24 => 0xB4420919#32
  | 25 => 0x343CF2FA#32
  | 26 => 0xB4381D32#32
  | 27 => 0x343383CC#32
  | 28 => 0xB42F2322#32
  | 29 => 0x342AF7D2#32
  | 30 => 0xB426FEBD#32
  | 31 => 0x342334FF#32
  | 32 => 0xB41F97EA#32
  | 33 => 0x341C2500#32
  | 34 => 0xB418D9F0#32
  | 35 => 0x3415B495#32
  | 36 => 0xB412B2ED#32
  | 37 => 0x340FD31A#32
  | 38 => 0xB40D1360#32
  | 39 => 0x340A721F#32
  | 40 => 0xB407EDD1#32
  | 41 => 0x3405850C#32
  | 42 => 0xB403367C#32
  | 43 => 0x340100E3#32
  | 44 => 0xB3FDC62E#32
  | 45 => 0x33F9B800#32
  | 46 => 0xB3F5D532#32
  | 47 => 0x33F21BD6#32
  | 48 => 0xB3EE8A1F#32
  | 49 => 0x33EB1E5A#32
  | 50 => 0xB3E7D6EF#32
  | 51 => 0x33E4B25D#32
  | 52 => 0xB3E1AF3D#32
  | 53 => 0x33DECC38#32
  | 54 => 0xB3DC0810#32
  | 55 => 0x33D96196#32
  | 56 => 0xB3D6D7AE#32
  | 57 => 0x33D4694B#32
  | 58 => 0xB3D21572#32
  | 59 => 0x33CFDB34#32
  | 60 => 0xB3CDB9B1#32
  | 61 => 0x33CBB015#32
  | 62 => 0xB3C9BD97#32
  | 63 => 0x33C7E17D#32
  | 64 => 0xB3C61B15#32
  | 65 => 0x33C469B8#32
  | 66 => 0xB3C2CCC7#32
  | 67 => 0x33C143B0#32
  | 68 => 0xB3BFCDE6#32
  | 69 => 0x33BE6AE7#32
  | 70 => 0xB3BD1A36#32
  | 71 => 0x33BBDB61#32
  | 72 => 0xB3BAADFB#32
  | 73 => 0x33B9919E#32
  | 74 => 0xB3B885EC#32
  | 75 => 0x33B78A8A#32
  | 76 => 0xB3B69F28#32
  | 77 => 0x33B5C377#32
  | 78 => 0xB3B4F732#32
  | 79 => 0x33B43A15#32
  | 80 => 0xB3B38BE5#32
  | 81 => 0x33B2EC6A#32
  | 82 => 0xB3B25B72#32
  | 83 => 0x33B1D8CF#32
  | 84 => 0xB3B16459#32
  | 85 => 0x33B0FDEA#32
  | 86 => 0xB3B0A563#32
  | 87 => 0x33B05AA9#32
  | 88 => 0xB3B01DA5#32
  | 89 => 0x33AFEE43#32
  | 90 => 0xB3AFCC75#32
  | 91 => 0x33AFB831#32
  | 92 => 0xB3AFB170#32
  | 93 => 0x33AFB831#32
  | 94 => 0xB3AFCC75#32
  | 95 => 0x33AFEE43#32
  | 96 => 0xB3B01DA5#32
  | 97 => 0x33B05AA9#32
  | 98 => 0xB3B0A563#32
  | 99 => 0x33B0FDEA#32
  | 100 => 0xB3B16459#32
  | 101 => 0x33B1D8CF#32
  | 102 => 0xB3B25B72#32
  | 103 => 0x33B2EC6A#32
  | 104 => 0xB3B38BE5#32
  | 105 => 0x33B43A15#32
  | 106 => 0xB3B4F732#32
  | 107 => 0x33B5C377#32
  | 108 => 0xB3B69F28#32
  | 109 => 0x33B78A8A#32
  | 110 => 0xB3B885EC#32
  | 111 => 0x33B9919E#32
  | 112 => 0xB3BAADFB#32
  | 113 => 0x33BBDB61#32
  | 114 => 0xB3BD1A36#32
  | 115 => 0x33BE6AE7#32
  | 116 => 0xB3BFCDE6#32
  | 117 => 0x33C143B0#32
  | 118 => 0xB3C2CCC7#32
  | 119 => 0x33C469B8#32
  | 120 => 0xB3C61B15#32
  | 121 => 0x33C7E17D#32
  | 122 => 0xB3C9BD97#32
  | 123 => 0x33CBB015#32
  | 124 => 0xB3CDB9B1#32
  | 125 => 0x33CFDB34#32
  | 126 => 0xB3D21572#32
  | 127 => 0x33D4694B#32
  | _ => 0#32

noncomputable abbrev lit0t0_441 (i : Nat) : BitVec 32 := match i % 128 with
  | 0 => 0xB3D6D7AE#32
  | 1 => 0x33D96196#32
  | 2 => 0xB3DC0810#32
  | 3 => 0x33DECC38#32
  | 4 => 0xB3E1AF3D#32
  | 5 => 0x33E4B25D#32
  | 6 => 0xB3E7D6EF#32
  | 7 => 0x33EB1E5A#32
  | 8 => 0xB3EE8A1F#32
  | 9 => 0x33F21BD6#32
  | 10 => 0xB3F5D532#32
  | 11 => 0x33F9B800#32
  | 12 => 0xB3FDC62E#32
  | 13 => 0x340100E3#32
  | 14 => 0xB403367C#32
  | 15 => 0x3405850C#32
  | 16 => 0xB407EDD1#32
  | 17 => 0x340A721F#32
  | 18 => 0xB40D1360#32
  | 19 => 0x340FD31A#32
  | 20 => 0xB412B2ED#32
  | 21 => 0x3415B495#32
  | 22 => 0xB418D9F0#32
  | 23 => 0x341C2500#32
  | 24 => 0xB41F97EA#32
  | 25 => 0x342334FF#32
  | 26 => 0xB426FEBD#32
  | 27 => 0x342AF7D2#32
  | 28 => 0xB42F2322#32
  | 29 => 0x343383CC#32
  | 30 => 0xB4381D32#32
  | 31 => 0x343CF2FA#32
  | 32 => 0xB4420919#32
  | 33 => 0x344763DA#32
  | 34 => 0xB44D07E6#32
  | 35 => 0x3452FA51#32
  | 36 => 0xB45940A1#32
  | 37 => 0x345FE0DA#32
  | 38 => 0xB466E193#32
  | 39 => 0x346E49FF#32
  | 40 => 0xB4762200#32
  | 41 => 0x347E723F#32
  | 42 => 0xB483A221#32
  | 43 => 0x34885143#32
  | 44 => 0xB48D4C4D#32
  | 45 => 0x349299A5#32
  | 46 => 0xB4984061#32
  | 47 => 0x349E485F#32
  | 48 => 0xB4A4BA5F#32
  | 49 => 0x34ABA023#32
  | 50 => 0xB4B30492#32
  | 51 => 0x34BAF3E5#32
  | 52 => 0xB4C37BD6#32
  | 53 => 0x34CCABDA#32
  | 54 => 0xB4D69568#32
  | 55 => 0x34E14C49#32
  | 56 => 0xB4ECE6F7#32
  | 57 => 0x34F97F13#32
  | 58 => 0xB50398F7#32
  | 59 => 0x350B1097#32
  | 60 => 0xB51339CD#32
  | 61 => 0x351C2B08#32
  | 62 => 0xB525FE56#32
  | 63 => 0x3530D21D#32
  | 64 => 0xB53CCA00#32
  | 65 => 0x354A0FF9#32
  | 66 => 0xB558D5BB#32
  | 67 => 0x35695670#32
  | 68 => 0xB57BD8F1#32
  | 69 => 0x3588594C#32
  | 70 => 0xB5942572#32
  | 71 => 0x35A19018#32
  | 72 => 0xB5B0E6EF#32
  | 73 => 0x35C28A3B#32
  | 74 => 0xB5D6F23A#32
  | 75 => 0x35EEB658#32
  | 76 => 0xB6054B76#32
  | 77 => 0x3615C529#32
  | 78 => 0xB6296767#32
  | 79 => 0x3641014B#32
  | 80 => 0xB65DA20C#32
  | 81 => 0x368056F2#32
  | 82 => 0xB695FBC4#32
  | 83 => 0x36B0ED61#32
  | 84 => 0xB6D29E9B#32
  | 85 => 0x36FFBDB2#32
  | 86 => 0xB692EE32#32
  | 87 => 0x391EBB1A#32
  | 88 => 0x3B12D0DF#32
  | 89 => 0x3CA0086D#32
  | 90 => 0x3DBAD58B#32
  | 91 => 0x3E6BB748#32
  | 92 => 0x3EA069FE#32
  | 93 => 0x3E6BB748#32
  | 94 => 0x3DBAD58B#32
  | 95 => 0x3CA0086D#32
  | 96 => 0x3B12D0DF#32
  | 97 => 0x391EBB1A#32
  | 98 => 0xB692EE32#32
  | 99 => 0x36FFBDB2#32
  | 100 => 0xB6D29E9B#32
  | 101 => 0x36B0ED61#32
  | 102 => 0xB695FBC4#32
  | 103 => 0x368056F2#32
  | 104 => 0xB65DA20C#32
  | 105 => 0x3641014B#32
  | 106 => 0xB6296767#32
  | 107 => 0x3615C529#32
  | 108 => 0xB6054B76#32
  | 109 => 0x35EEB658#32
  | 110 => 0xB5D6F23A#32
  | 111 => 0x35C28A3B#32
  | 112 => 0xB5B0E6EF#32
  | 113 => 0x35A19018#32
  | 114 => 0xB5942572#32
  | 115 => 0x3588594C#32
  | 116 => 0xB57BD8F1#32
  | 117 => 0x35695670#32
  | 118 => 0xB558D5BB#32
  | 119 => 0x354A0FF9#32
  | 120 => 0xB53CCA00#32
  | 121 => 0x3530D21D#32
  | 122 => 0xB525FE56#32
  | 123 => 0x351C2B08#32
  | 124 => 0xB51339CD#32
  | 125 => 0x350B1097#32
  | 126 => 0xB50398F7#32
  | 127 => 0x34F97F13#32
  | _ => 0#32

noncomputable abbrev lit0t0_442 (i : Nat) : BitVec 32 := match i % 128 with
  | 0 => 0x34F97F13#32
  | 1 => 0xB4ECE6F7#32
  | 2 => 0x34E14C49#32
  | 3 => 0xB4D69568#32
  | 4 => 0x34CCABDA#32
  | 5 => 0xB4C37BD6#32
  | 6 => 0x34BAF3E5#32
  | 7 => 0xB4B30492#32
  | 8 => 0x34ABA023#32
  | 9 => 0xB4A4BA5F#32
  | 10 => 0x349E485F#32
  | 11 => 0xB4984061#32
  | 12 => 0x349299A5#32
  | 13 => 0xB48D4C4D#32
  | 14 => 0x34885142#32
  | 15 => 0xB483A221#32
  | 16 => 0x347E723F#32
  | 17 => 0xB4762200#32
  | 18 => 0x346E49FF#32
  | 19 => 0xB466E193#32
  | 20 => 0x345FE0DA#32
  | 21 => 0xB45940A1#32
  | 22 => 0x3452FA51#32
  | 23 => 0xB44D07E6#32
  | 24 => 0x344763DA#32
  | 25 => 0xB4420919#32
  | 26 => 0x343CF2FA#32
  | 27 => 0xB4381D32#32
  | 28 => 0x343383CC#32
  | 29 => 0xB42F2322#32
  | 30 => 0x342AF7D2#32
  | 31 => 0xB426FEBD#32
  | 32 => 0x342334FF#32
  | 33 => 0xB41F97EA#32
  | 34 => 0x341C2500#32
  | 35 => 0xB418D9F0#32
  | 36 => 0x3415B495#32
  | 37 => 0xB412B2ED#32
  | 38 => 0x340FD31A#32
  | 39 => 0xB40D1360#32
  | 40 => 0x340A721F#32
  | 41 => 0xB407EDD1#32
  | 42 => 0x3405850C#32
  | 43 => 0xB403367C#32
  | 44 => 0x340100E3#32
  | 45 => 0xB3FDC62E#32
  | 46 => 0x33F9B800#32
  | 47 => 0xB3F5D532#32
  | 48 => 0x33F21BD6#32
  | 49 => 0xB3EE8A1F#32
  | 50 => 0x33EB1E5A#32
  | 51 => 0xB3E7D6EF#32
  | 52 => 0x33E4B25D#32
  | 53 => 0xB3E1AF3D#32
  | 54 => 0x33DECC38#32
  | 55 => 0xB3DC0810#32
  | 56 => 0x33D96196#32
  | 57 => 0xB3D6D7AE#32
  | 58 => 0x33D4694B#32
  | 59 => 0xB3D21572#32
  | 60 => 0x33CFDB34#32
  | 61 => 0xB3CDB9B1#32
  | 62 => 0x33CBB015#32
  | 63 => 0xB3C9BD97#32
  | 64 => 0x33C7E17D#32
  | 65 => 0xB3C61B15#32
  | 66 => 0x33C469B8#32
  | 67 => 0xB3C2CCC7#32
  | 68 => 0x33C143B0#32
  | 69 => 0xB3BFCDE6#32
  | 70 => 0x33BE6AE7#32
  | 71 => 0xB3BD1A36#32
  | 72 => 0x33BBDB61#32
  | 73 => 0xB3BAADFB#32
  | 74 => 0x33B9919E#32
  | 75 => 0xB3B885EC#32
  | 76 => 0x33B78A8A#32
  | 77 => 0xB3B69F28#32
  | 78 => 0x33B5C377#32
  | 79 => 0xB3B4F732#32
  | 80 => 0x33B43A15#32
  | 81 => 0xB3B38BE5#32
  | 82 => 0x33B2EC6A#32
  | 83 => 0xB3B25B72#32
  | 84 => 0x33B1D8CF#32
  | 85 => 0xB3B16459#32
  | 86 => 0x33B0FDEA#32
  | 87 => 0xB3B0A563#32
  | 88 => 0x33B05AA9#32
  | 89 => 0xB3B01DA5#32
  | 90 => 0x33AFEE43#32
  | 91 => 0xB3AFCC75#32
  | 92 => 0x33AFB831#32
  | 93 => 0xB3AFB170#32
  | 94 => 0x33AFB831#32
  | 95 => 0xB3AFCC75#32
  | 96 => 0x33AFEE43#32
  | 97 => 0xB3B01DA5#32
  | 98 => 0x33B05AA9#32
  | 99 => 0xB3B0A563#32
  | 100 => 0x33B0FDEA#32
  | 101 => 0xB3B16459#32
  | 102 => 0x33B1D8CF#32
  | 103 => 0xB3B25B72#32
  | 104 => 0x33B2EC6A#32
  | 105 => 0xB3B38BE5#32
  | 106 => 0x33B43A15#32
  | 107 => 0xB3B4F732#32
  | 108 => 0x33B5C377#32
  | 109 => 0xB3B69F28#32
  | 110 => 0x33B78A8A#32
  | 111 => 0xB3B885EC#32
  | 112 => 0x33B9919E#32
  | 113 => 0xB3BAADFB#32
  | 114 => 0x33BBDB61#32
  | 115 => 0xB3BD1A36#32
  | 116 => 0x33BE6AE7#32
  | 117 => 0xB3BFCDE6#32
  | 118 => 0x33C143B0#32
  | 119 => 0xB3C2CCC7#32
  | 120 => 0x33C469B8#32
  | 121 => 0xB3C61B15#32
  | 122 => 0x33C7E17D#32
  | 123 => 0xB3C9BD97#32
  | 124 => 0x33CBB015#32
  | 125 => 0xB3CDB9B1#32
  | 126 => 0x33CFDB34#32
  | 127 => 0xB3D21572#32
  | _ => 0#32

noncomputable abbrev lit0t0_443 (i : Nat) : BitVec 32 := match i % 128 with
  | 0 => 0x33D4694B#32
  | 1 => 0xB3D6D7AE#32
  | 2 => 0x33D96196#32
  | 3 => 0xB3DC0810#32
  | 4 => 0x33DECC38#32
  | 5 => 0xB3E1AF3D#32
  | 6 => 0x33E4B25D#32
  | 7 => 0xB3E7D6EF#32
  | 8 => 0x33EB1E5A#32
  | 9 => 0xB3EE8A1F#32
  | 10 => 0x33F21BD6#32
  | 11 => 0xB3F5D532#32
  | 12 => 0x33F9B800#32
  | 13 => 0xB3FDC62E#32
  | 14 => 0x340100E3#32
  | 15 => 0xB403367C#32
  | 16 => 0x3405850C#32
  | 17 => 0xB407EDD1#32
  | 18 => 0x340A721F#32
  | 19 => 0xB40D1360#32
  | 20 => 0x340FD31A#32
  | 21 => 0xB412B2ED#32
  | 22 => 0x3415B495#32
  | 23 => 0xB418D9F0#32
  | 24 => 0x341C2500#32
  | 25 => 0xB41F97EA#32
  | 26 => 0x342334FF#32
  | 27 => 0xB426FEBD#32
  | 28 => 0x342AF7D2#32
  | 29 => 0xB42F2322#32
  | 30 => 0x343383CC#32
  | 31 => 0xB4381D32#32
  | 32 => 0x343CF2FA#32
  | 33 => 0xB4420919#32
  | 34 => 0x344763DA#32
  | 35 => 0xB44D07E6#32
  | 36 => 0x3452FA51#32
  | 37 => 0xB45940A1#32
  | 38 => 0x345FE0DA#32
  | 39 => 0xB466E193#32
  | 40 => 0x346E49FF#32
  | 41 => 0xB4762200#32
  | 42 => 0x347E723F#32
  | 43 => 0xB483A221#32
  | 44 => 0x34885142#32
  | 45 => 0xB48D4C4D#32
  | 46 => 0x349299A5#32
  | 47 => 0xB4984061#32
  | 48 => 0x349E485F#32
  | 49 => 0xB4A4BA5F#32
  | 50 => 0x34ABA023#32
  | 51 => 0xB4B30492#32
  | 52 => 0x34BAF3E5#32
  | 53 => 0xB4C37BD6#32
  | 54 => 0x34CCABDA#32
  | 55 => 0xB4D69568#32
  | 56 => 0x34E14C49#32
  | 57 => 0xB4ECE6F7#32
  | 58 => 0x34F97F13#32
  | 59 => 0xB50398F7#32
  | 60 => 0x350B1097#32
  | 61 => 0xB51339CD#32
  | 62 => 0x351C2B08#32
  | 63 => 0xB525FE56#32
  | 64 => 0x3530D21D#32
  | 65 => 0xB53CCA00#32
  | 66 => 0x354A0FF9#32
  | 67 => 0xB558D5BB#32
  | 68 => 0x35695670#32
  | 69 => 0xB57BD8F1#32
  | 70 => 0x3588594C#32
  | 71 => 0xB5942572#32
  | 72 => 0x35A19018#32
  | 73 => 0xB5B0E6EF#32
  | 74 => 0x35C28A3B#32
  | 75 => 0xB5D6F23A#32
  | 76 => 0x35EEB658#32
  | 77 => 0xB6054B76#32
  | 78 => 0x3615C529#32
  | 79 => 0xB6296767#32
  | 80 => 0x3641014B#32
  | 81 => 0xB65DA20C#32
  | 82 => 0x368056F2#32
  | 83 => 0xB695FBC4#32
  | 84 => 0x36B0ED61#32
  | 85 => 0xB6D29E9B#32
  | 86 => 0x36FFBDB2#32
  | 87 => 0xB692EE32#32
  | 88 => 0x391EBB1A#32
  | 89 => 0x3B12D0DF#32
  | 90 => 0x3CA0086D#32
  | 91 => 0x3DBAD58B#32
  | 92 => 0x3E6BB748#32
  | 93 => 0x3EA069FE#32
  | 94 => 0x3E6BB748#32
  | 95 => 0x3DBAD58B#32
  | 96 => 0x3CA0086D#32
  | 97 => 0x3B12D0DF#32
  | 98 => 0x391EBB1A#32
  | 99 => 0xB692EE32#32
  | 100 => 0x36FFBDB2#32
  | 101 => 0xB6D29E9B#32
  | 102 => 0x36B0ED61#32
  | 103 => 0xB695FBC4#32
  | 104 => 0x368056F2#32
  | 105 => 0xB65DA20C#32
  | 106 => 0x3641014B#32
  | 107 => 0xB6296767#32
  | 108 => 0x3615C529#32
  | 109 => 0xB6054B76#32
  | 110 => 0x35EEB658#32
  | 111 => 0xB5D6F23A#32
  | 112 => 0x35C28A3B#32
  | 113 => 0xB5B0E6EF#32
  | 114 => 0x35A19018#32
  | 115 => 0xB5942572#32
  | 116 => 0x3588594C#32
  | 117 => 0xB57BD8F1#32
  | 118 => 0x35695670#32
  | 119 => 0xB558D5BB#32
  | 120 => 0x354A0FF9#32
  | 121 => 0xB53CCA00#32
  | 122 => 0x3530D21D#32
  | 123 => 0xB525FE56#32
  | 124 => 0x351C2B08#32
  | 125 => 0xB51339CD#32
  | 126 => 0x350B1097#32
  | 127 => 0xB50398F7#32
  | _ => 0#32

noncomputable abbrev lit0t0_444 (i : Nat) : BitVec 32 := match i % 128 with
  | 0 => 0xB50398F7#32
  | 1 => 0x34F97F13#32
  | 2 => 0xB4ECE6F7#32
  | 3 => 0x34E14C49#32
  | 4 => 0xB4D69568#32
  | 5 => 0x34CCABDA#32
  | 6 => 0xB4C37BD6#32
  | 7 => 0x34BAF3E5#32
  | 8 => 0xB4B30492#32
  | 9 => 0x34ABA023#32
  | 10 => 0xB4A4BA5F#32
  | 11 => 0x349E485F#32
  | 12 => 0xB4984061#32
  | 13 => 0x349299A5#32
  | 14 => 0xB48D4C4D#32
  | 15 => 0x34885143#32
  | 16 => 0xB483A221#32
  | 17 => 0x347E723F#32
  | 18 => 0xB4762200#32
  | 19 => 0x346E49FF#32
  | 20 => 0xB466E193#32
  | 21 => 0x345FE0DA#32
  | 22 => 0xB45940A1#32
  | 23 => 0x3452FA51#32
  | 24 => 0xB44D07E6#32
  | 25 => 0x344763DA#32
  | 26 => 0xB4420919#32
  | 27 => 0x343CF2FA#32
  | 28 => 0xB4381D32#32
  | 29 => 0x343383CC#32
  | 30 => 0xB42F2322#32
  | 31 => 0x342AF7D2#32
  | 32 => 0xB426FEBD#32
  | 33 => 0x342334FF#32
  | 34 => 0xB41F97EA#32
  | 35 => 0x341C2500#32
  | 36 => 0xB418D9F0#32
  | 37 => 0x3415B495#32
  | 38 => 0xB412B2ED#32
  | 39 => 0x340FD31A#32
  | 40 => 0xB40D1360#32
  | 41 => 0x340A721F#32
  | 42 => 0xB407EDD1#32
  | 43 => 0x3405850C#32
  | 44 => 0xB403367C#32
  | 45 => 0x340100E3#32
  | 46 => 0xB3FDC62E#32
  | 47 => 0x33F9B800#32
  | 48 => 0xB3F5D532#32
  | 49 => 0x33F21BD6#32
  | 50 => 0xB3EE8A1F#32
  | 51 => 0x33EB1E5A#32
  | 52 => 0xB3E7D6EF#32
  | 53 => 0x33E4B25D#32
  | 54 => 0xB3E1AF3D#32
  | 55 => 0x33DECC38#32
  | 56 => 0xB3DC0810#32
  | 57 => 0x33D96196#32
  | 58 => 0xB3D6D7AE#32
  | 59 => 0x33D4694B#32
  | 60 => 0xB3D21572#32
  | 61 => 0x33CFDB34#32
  | 62 => 0xB3CDB9B1#32
  | 63 => 0x33CBB015#32
  | 64 => 0xB3C9BD97#32
  | 65 => 0x33C7E17D#32
  | 66 => 0xB3C61B15#32
  | 67 => 0x33C469B8#32
  | 68 => 0xB3C2CCC7#32
  | 69 => 0x33C143B0#32
  | 70 => 0xB3BFCDE6#32
  | 71 => 0x33BE6AE7#32
  | 72 => 0xB3BD1A36#32
  | 73 => 0x33BBDB61#32
  | 74 => 0xB3BAADFB#32
  | 75 => 0x33B9919E#32
  | 76 => 0xB3B885EC#32
  | 77 => 0x33B78A8A#32
  | 78 => 0xB3B69F28#32
  | 79 => 0x33B5C377#32
  | 80 => 0xB3B4F732#32
  | 81 => 0x33B43A15#32
  | 82 => 0xB3B38BE5#32
  | 83 => 0x33B2EC6A#32
  | 84 => 0xB3B25B72#32
  | 85 => 0x33B1D8CF#32
  | 86 => 0xB3B16459#32
  | 87 => 0x33B0FDEA#32
  | 88 => 0xB3B0A563#32
  | 89 => 0x33B05AA9#32
  | 90 => 0xB3B01DA5#32
  | 91 => 0x33AFEE43#32
  | 92 => 0xB3AFCC75#32
  | 93 => 0x33AFB831#32
  | 94 => 0xB3AFB170#32
  | 95 => 0x33AFB831#32
  | 96 => 0xB3AFCC75#32
  | 97 => 0x33AFEE43#32
  | 98 => 0xB3B01DA5#32
  | 99 => 0x33B05AA9#32
  | 100 => 0xB3B0A563#32
  | 101 => 0x33B0FDEA#32
  | 102 => 0xB3B16459#32
  | 103 => 0x33B1D8CF#32
  | 104 => 0xB3B25B72#32
  | 105 => 0x33B2EC6A#32
  | 106 => 0xB3B38BE5#32
  | 107 => 0x33B43A15#32
  | 108 => 0xB3B4F732#32
  | 109 => 0x33B5C377#32
  | 110 => 0xB3B69F28#32
  | 111 => 0x33B78A8A#32
  | 112 => 0xB3B885EC#32
  | 113 => 0x33B9919E#32
  | 114 => 0xB3BAADFB#32
  | 115 => 0x33BBDB61#32
  | 116 => 0xB3BD1A36#32
  | 117 => 0x33BE6AE7#32
  | 118 => 0xB3BFCDE6#32
  | 119 => 0x33C143B0#32
  | 120 => 0xB3C2CCC7#32
  | 121 => 0x33C469B8#32
  | 122 => 0xB3C61B15#32
  | 123 => 0x33C7E17D#32
  | 124 => 0xB3C9BD97#32
  | 125 => 0x33CBB015#32
  | 126 => 0xB3CDB9B1#32
  | 127 => 0x33CFDB34#32
  | _ => 0#32

noncomputable abbrev lit0t0_445 (i : Nat) : BitVec 32 := match i % 128 with
  | 0 => 0xB3D21572#32
  | 1 => 0x33D4694B#32
  | 2 => 0xB3D6D7AE#32
  | 3 => 0x33D96196#32
  | 4 => 0xB3DC0810#32
  | 5 => 0x33DECC38#32
  | 6 => 0xB3E1AF3D#32
  | 7 => 0x33E4B25D#32
  | 8 => 0xB3E7D6EF#32
  | 9 => 0x33EB1E5A#32
  | 10 => 0xB3EE8A1F#32
  | 11 => 0x33F21BD6#32
  | 12 => 0xB3F5D532#32
  | 13 => 0x33F9B800#32
  | 14 => 0xB3FDC62E#32
  | 15 => 0x340100E3#32
  | 16 => 0xB403367C#32
  | 17 => 0x3405850C#32
  | 18 => 0xB407EDD1#32
  | 19 => 0x340A721F#32
  | 20 => 0xB40D1360#32
  | 21 => 0x340FD31A#32
  | 22 => 0xB412B2ED#32
  | 23 => 0x3415B495#32
  | 24 => 0xB418D9F0#32
  | 25 => 0x341C2500#32
  | 26 => 0xB41F97EA#32
  | 27 => 0x342334FF#32
  | 28 => 0xB426FEBD#32
  | 29 => 0x342AF7D2#32
  | 30 => 0xB42F2322#32
  | 31 => 0x343383CC#32
  | 32 => 0xB4381D32#32
  | 33 => 0x343CF2FA#32
  | 34 => 0xB4420919#32
  | 35 => 0x344763DA#32
  | 36 => 0xB44D07E6#32
  | 37 => 0x3452FA51#32
  | 38 => 0xB45940A1#32
  | 39 => 0x345FE0DA#32
  | 40 => 0xB466E193#32
  | 41 => 0x346E49FF#32
  | 42 => 0xB4762200#32
  | 43 => 0x347E723F#32
  | 44 => 0xB483A221#32
  | 45 => 0x34885142#32
  | 46 => 0xB48D4C4D#32
  | 47 => 0x349299A5#32
  | 48 => 0xB4984061#32
  | 49 => 0x349E485F#32
  | 50 => 0xB4A4BA5F#32
  | 51 => 0x34ABA023#32
  | 52 => 0xB4B30492#32
  | 53 => 0x34BAF3E5#32
  | 54 => 0xB4C37BD6#32
  | 55 => 0x34CCABDA#32
  | 56 => 0xB4D69568#32
  | 57 => 0x34E14C49#32
  | 58 => 0xB4ECE6F7#32
  | 59 => 0x34F97F13#32
  | 60 => 0xB50398F7#32
  | 61 => 0x350B1097#32
  | 62 => 0xB51339CD#32
  | 63 => 0x351C2B08#32
  | 64 => 0xB525FE56#32
  | 65 => 0x3530D21D#32
  | 66 => 0xB53CCA00#32
  | 67 => 0x354A0FF9#32
  | 68 => 0xB558D5BB#32
  | 69 => 0x35695670#32
  | 70 => 0xB57BD8F1#32
  | 71 => 0x3588594C#32
  | 72 => 0xB5942572#32
  | 73 => 0x35A19018#32
  | 74 => 0xB5B0E6EF#32
  | 75 => 0x35C28A3B#32
  | 76 => 0xB5D6F23A#32
  | 77 => 0x35EEB658#32
  | 78 => 0xB6054B76#32
  | 79 => 0x3615C529#32
  | 80 => 0xB6296767#32
  | 81 => 0x3641014B#32
  | 82 => 0xB65DA20C#32
  | 83 => 0x368056F2#32
  | 84 => 0xB695FBC4#32
  | 85 => 0x36B0ED61#32
  | 86 => 0xB6D29E9B#32
  | 87 => 0x36FFBDB2#32
  | 88 => 0xB692EE32#32
  | 89 => 0x391EBB1A#32
  | 90 => 0x3B12D0DF#32
  | 91 => 0x3CA0086D#32
  | 92 => 0x3DBAD58B#32
  | 93 => 0x3E6BB748#32
  | 94 => 0x3EA069FE#32
  | 95 => 0x3E6BB748#32
  | 96 => 0x3DBAD58B#32
  | 97 => 0x3CA0086D#32
  | 98 => 0x3B12D0DF#32
  | 99 => 0x391EBB1A#32
  | 100 => 0xB692EE32#32
  | 101 => 0x36FFBDB2#32
  | 102 => 0xB6D29E9B#32
  | 103 => 0x36B0ED61#32
  | 104 => 0xB695FBC4#32
  | 105 => 0x368056F2#32
  | 106 => 0xB65DA20C#32
  | 107 => 0x3641014B#32
  | 108 => 0xB6296767#32
  | 109 => 0x3615C529#32
  | 110 => 0xB6054B76#32
  | 111 => 0x35EEB658#32
  | 112 => 0xB5D6F23A#32
  | 113 => 0x35C28A3B#32
  | 114 => 0xB5B0E6EF#32
  | 115 => 0x35A19018#32
  | 116 => 0xB5942572#32
  | 117 => 0x3588594C#32
  | 118 => 0xB57BD8F1#32
  | 119 => 0x35695670#32
  | 120 => 0xB558D5BB#32
  | 121 => 0x354A0FF9#32
  | 122 => 0xB53CCA00#32
  | 123 => 0x3530D21D#32
  | 124 => 0xB525FE56#32
  | 125 => 0x351C2B08#32
  | 126 => 0xB51339CD#32
  | 127 => 0x350B1097#32
  | _ => 0#32

noncomputable abbrev lit0t0_446 (i : Nat) : BitVec 32 := match i % 128 with
  | 0 => 0x350B1097#32
  | 1 => 0xB50398F7#32
  | 2 => 0x34F97F13#32
  | 3 => 0xB4ECE6F7#32
  | 4 => 0x34E14C49#32
  | 5 => 0xB4D69568#32
  | 6 => 0x34CCABDA#32
  | 7 => 0xB4C37BD6#32
  | 8 => 0x34BAF3E5#32
  | 9 => 0xB4B30492#32
  | 10 => 0x34ABA023#32
  | 11 => 0xB4A4BA5F#32
  | 12 => 0x349E485F#32
  | 13 => 0xB4984061#32
  | 14 => 0x349299A5#32
  | 15 => 0xB48D4C4D#32
  | 16 => 0x34885143#32
  | 17 => 0xB483A221#32
  | 18 => 0x347E723F#32
  | 19 => 0xB4762200#32
  | 20 => 0x346E49FF#32
  | 21 => 0xB466E193#32
  | 22 => 0x345FE0DA#32
  | 23 => 0xB45940A1#32
  | 24 => 0x3452FA51#32
  | 25 => 0xB44D07E6#32
  | 26 => 0x344763DA#32
  | 27 => 0xB4420919#32
  | 28 => 0x343CF2FA#32
  | 29 => 0xB4381D32#32
  | 30 => 0x343383CC#32
  | 31 => 0xB42F2322#32
  | 32 => 0x342AF7D2#32
  | 33 => 0xB426FEBD#32
  | 34 => 0x342334FF#32
  | 35 => 0xB41F97EA#32
  | 36 => 0x341C2500#32
  | 37 => 0xB418D9F0#32
  | 38 => 0x3415B495#32
  | 39 => 0xB412B2ED#32
  | 40 => 0x340FD31A#32
  | 41 => 0xB40D1360#32
  | 42 => 0x340A721F#32
  | 43 => 0xB407EDD1#32
  | 44 => 0x3405850C#32
  | 45 => 0xB403367C#32
  | 46 => 0x340100E3#32
  | 47 => 0xB3FDC62E#32
  | 48 => 0x33F9B800#32
  | 49 => 0xB3F5D532#32
  | 50 => 0x33F21BD6#32
  | 51 => 0xB3EE8A1F#32
  | 52 => 0x33EB1E5A#32
  | 53 => 0xB3E7D6EF#32
  | 54 => 0x33E4B25D#32
  | 55 => 0xB3E1AF3D#32
  | 56 => 0x33DECC38#32
  | 57 => 0xB3DC0810#32
  | 58 => 0x33D96196#32
  | 59 => 0xB3D6D7AE#32
  | 60 => 0x33D4694B#32
  | 61 => 0xB3D21572#32
  | 62 => 0x33CFDB34#32
  | 63 => 0xB3CDB9B1#32
  | 64 => 0x33CBB015#32
  | 65 => 0xB3C9BD97#32
  | 66 => 0x33C7E17D#32
  | 67 => 0xB3C61B15#32
  | 68 => 0x33C469B8#32
  | 69 => 0xB3C2CCC7#32
  | 70 => 0x33C143B0#32
  | 71 => 0xB3BFCDE6#32
  | 72 => 0x33BE6AE7#32
  | 73 => 0xB3BD1A36#32
  | 74 => 0x33BBDB61#32
  | 75 => 0xB3BAADFB#32
  | 76 => 0x33B9919E#32
  | 77 => 0xB3B885EC#32
  | 78 => 0x33B78A8A#32
  | 79 => 0xB3B69F28#32
  | 80 => 0x33B5C377#32
  | 81 => 0xB3B4F732#32
  | 82 => 0x33B43A15#32
  | 83 => 0xB3B38BE5#32
  | 84 => 0x33B2EC6A#32
  | 85 => 0xB3B25B72#32
  | 86 => 0x33B1D8CF#32
  | 87 => 0xB3B16459#32
  | 88 => 0x33B0FDEA#32
  | 89 => 0xB3B0A563#32
  | 90 => 0x33B05AA9#32
  | 91 => 0xB3B01DA5#32
  | 92 => 0x33AFEE43#32
  | 93 => 0xB3AFCC75#32
  | 94 => 0x33AFB831#32
  | 95 => 0xB3AFB170#32
  | 96 => 0x33AFB831#32
  | 97 => 0xB3AFCC75#32
  | 98 => 0x33AFEE43#32
  | 99 => 0xB3B01DA5#32
  | 100 => 0x33B05AA9#32
  | 101 => 0xB3B0A563#32
  | 102 => 0x33B0FDEA#32
  | 103 => 0xB3B16459#32
  | 104 => 0x33B1D8CF#32
  | 105 => 0xB3B25B72#32
  | 106 => 0x33B2EC6A#32
  | 107 => 0xB3B38BE5#32
  | 108 => 0x33B43A15#32
  | 109 => 0xB3B4F732#32
  | 110 => 0x33B5C377#32
  | 111 => 0xB3B69F28#32
  | 112 => 0x33B78A8A#32
  | 113 => 0xB3B885EC#32
  | 114 => 0x33B9919E#32
  | 115 => 0xB3BAADFB#32
  | 116 => 0x33BBDB61#32
  | 117 => 0xB3BD1A36#32
  | 118 => 0x33BE6AE7#32
  | 119 => 0xB3BFCDE6#32
  | 120 => 0x33C143B0#32
  | 121 => 0xB3C2CCC7#32
  | 122 => 0x33C469B8#32
  | 123 => 0xB3C61B15#32
  | 124 => 0x33C7E17D#32
  | 125 => 0xB3C9BD97#32
  | 126 => 0x33CBB015#32
  | 127 => 0xB3CDB9B1#32
  | _ => 0#32

noncomputable abbrev lit0t0_447 (i : Nat) : BitVec 32 := match i % 128 with
  | 0 => 0x33CFDB34#32
  | 1 => 0xB3D21572#32
  | 2 => 0x33D4694B#32
  | 3 => 0xB3D6D7AE#32
  | 4 => 0x33D96196#32
  | 5 => 0xB3DC0810#32
  | 6 => 0x33DECC38#32
  | 7 => 0xB3E1AF3D#32
  | 8 => 0x33E4B25D#32
  | 9 => 0xB3E7D6EF#32
  | 10 => 0x33EB1E5A#32
  | 11 => 0xB3EE8A1F#32
  | 12 => 0x33F21BD6#32
  | 13 => 0xB3F5D532#32
  | 14 => 0x33F9B800#32
  | 15 => 0xB3FDC62E#32
  | 16 => 0x340100E3#32
  | 17 => 0xB403367C#32
  | 18 => 0x3405850C#32
  | 19 => 0xB407EDD1#32
  | 20 => 0x340A721F#32
  | 21 => 0xB40D1360#32
  | 22 => 0x340FD31A#32
  | 23 => 0xB412B2ED#32
  | 24 => 0x3415B495#32
  | 25 => 0xB418D9F0#32
  | 26 => 0x341C2500#32
  | 27 => 0xB41F97EA#32
  | 28 => 0x342334FF#32
  | 29 => 0xB426FEBD#32
  | 30 => 0x342AF7D2#32
  | 31 => 0xB42F2322#32
  | 32 => 0x343383CC#32
  | 33 => 0xB4381D32#32
  | 34 => 0x343CF2FA#32
  | 35 => 0xB4420919#32
  | 36 => 0x344763DA#32
  | 37 => 0xB44D07E6#32
  | 38 => 0x3452FA51#32
  | 39 => 0xB45940A1#32
  | 40 => 0x345FE0DA#32
  | 41 => 0xB466E193#32
  | 42 => 0x346E49FF#32
  | 43 => 0xB4762200#32
  | 44 => 0x347E723F#32
  | 45 => 0xB483A221#32
  | 46 => 0x34885143#32
  | 47 => 0xB48D4C4D#32
  | 48 => 0x349299A5#32
  | 49 => 0xB4984061#32
  | 50 => 0x349E485F#32
  | 51 => 0xB4A4BA5F#32
  | 52 => 0x34ABA023#32
  | 53 => 0xB4B30492#32
  | 54 => 0x34BAF3E5#32
  | 55 => 0xB4C37BD6#32
  | 56 => 0x34CCABDA#32
  | 57 => 0xB4D69568#32
  | 58 => 0x34E14C49#32
  | 59 => 0xB4ECE6F7#32
  | 60 => 0x34F97F13#32
  | 61 => 0xB50398F7#32
  | 62 => 0x350B1097#32
  | 63 => 0xB51339CD#32
  | 64 => 0x351C2B08#32
  | 65 => 0xB525FE56#32
  | 66 => 0x3530D21D#32
  | 67 => 0xB53CCA00#32
  | 68 => 0x354A0FF9#32
  | 69 => 0xB558D5BB#32
  | 70 => 0x35695670#32
  | 71 => 0xB57BD8F1#32
  | 72 => 0x3588594C#32
  | 73 => 0xB5942572#32
  | 74 => 0x35A19018#32
  | 75 => 0xB5B0E6EF#32
  | 76 => 0x35C28A3B#32
  | 77 => 0xB5D6F23A#32
  | 78 => 0x35EEB658#32
  | 79 => 0xB6054B76#32
  | 80 => 0x3615C529#32
  | 81 => 0xB6296767#32
  | 82 => 0x3641014B#32
  | 83 => 0xB65DA20C#32
  | 84 => 0x368056F2#32
  | 85 => 0xB695FBC4#32
  | 86 => 0x36B0ED61#32
  | 87 => 0xB6D29E9B#32
  | 88 => 0x36FFBDB2#32
  | 89 => 0xB692EE32#32
  | 90 => 0x391EBB1A#32
  | 91 => 0x3B12D0DF#32
  | 92 => 0x3CA0086D#32
  | 93 => 0x3DBAD58B#32
  | 94 => 0x3E6BB748#32
  | 95 => 0x3EA069FE#32
  | 96 => 0x3E6BB748#32
  | 97 => 0x3DBAD58B#32
  | 98 => 0x3CA0086D#32
  | 99 => 0x3B12D0DF#32
  | 100 => 0x391EBB1A#32
  | 101 => 0xB692EE32#32
  | 102 => 0x36FFBDB2#32
  | 103 => 0xB6D29E9B#32
  | 104 => 0x36B0ED61#32
  | 105 => 0xB695FBC4#32
  | 106 => 0x368056F2#32
  | 107 => 0xB65DA20C#32
  | 108 => 0x3641014B#32
  | 109 => 0xB6296767#32
  | 110 => 0x3615C529#32
  | 111 => 0xB6054B76#32
  | 112 => 0x35EEB658#32
  | 113 => 0xB5D6F23A#32
  | 114 => 0x35C28A3B#32
  | 115 => 0xB5B0E6EF#32
  | 116 => 0x35A19018#32
  | 117 => 0xB5942572#32
  | 118 => 0x3588594C#32
  | 119 => 0xB57BD8F1#32
  | 120 => 0x35695670#32
  | 121 => 0xB558D5BB#32
  | 122 => 0x354A0FF9#32
  | 123 => 0xB53CCA00#32
  | 124 => 0x3530D21D#32
  | 125 => 0xB525FE56#32
  | 126 => 0x351C2B08#32
  | 127 => 0xB51339CD#32
  | _ => 0#32

noncomputable abbrev lit0t0_448 (i : Nat) : BitVec 32 := match i % 128 with
  | 0 => 0xB51339CD#32
  | 1 => 0x350B1097#32
  | 2 => 0xB50398F7#32
  | 3 => 0x34F97F13#32
  | 4 => 0xB4ECE6F7#32
  | 5 => 0x34E14C49#32
  | 6 => 0xB4D69568#32
  | 7 => 0x34CCABDA#32
  | 8 => 0xB4C37BD6#32
  | 9 => 0x34BAF3E5#32
  | 10 => 0xB4B30492#32
  | 11 => 0x34ABA023#32
  | 12 => 0xB4A4BA5F#32
  | 13 => 0x349E485F#32
  | 14 => 0xB4984061#32
  | 15 => 0x349299A5#32
  | 16 => 0xB48D4C4D#32
  | 17 => 0x34885142#32
  | 18 => 0xB483A221#32
  | 19 => 0x347E723F#32
  | 20 => 0xB4762200#32
  | 21 => 0x346E49FF#32
  | 22 => 0xB466E193#32
  | 23 => 0x345FE0DA#32
  | 24 => 0xB45940A1#32
  | 25 => 0x3452FA51#32
  | 26 => 0xB44D07E6#32
  | 27 => 0x344763DA#32
  | 28 => 0xB4420919#32
  | 29 => 0x343CF2FA#32
  | 30 => 0xB4381D32#32
  | 31 => 0x343383CC#32
  | 32 => 0xB42F2322#32
  | 33 => 0x342AF7D2#32
  | 34 => 0xB426FEBD#32
  | 35 => 0x342334FF#32
  | 36 => 0xB41F97EA#32
  | 37 => 0x341C2500#32
  | 38 => 0xB418D9F0#32
  | 39 => 0x3415B495#32
  | 40 => 0xB412B2ED#32
  | 41 => 0x340FD31A#32
  | 42 => 0xB40D1360#32
  | 43 => 0x340A721F#32
  | 44 => 0xB407EDD1#32
  | 45 => 0x3405850C#32
  | 46 => 0xB403367C#32
  | 47 => 0x340100E3#32
  | 48 => 0xB3FDC62E#32
  | 49 => 0x33F9B800#32
  | 50 => 0xB3F5D532#32
  | 51 => 0x33F21BD6#32
  | 52 => 0xB3EE8A1F#32
  | 53 => 0x33EB1E5A#32
  | 54 => 0xB3E7D6EF#32
  | 55 => 0x33E4B25D#32
  | 56 => 0xB3E1AF3D#32
  | 57 => 0x33DECC38#32
  | 58 => 0xB3DC0810#32
  | 59 => 0x33D96196#32
  | 60 => 0xB3D6D7AE#32
  | 61 => 0x33D4694B#32
  | 62 => 0xB3D21572#32
  | 63 => 0x33CFDB34#32
  | 64 => 0xB3CDB9B1#32
  | 65 => 0x33CBB015#32
  | 66 => 0xB3C9BD97#32
  | 67 => 0x33C7E17D#32
  | 68 => 0xB3C61B15#32
  | 69 => 0x33C469B8#32
  | 70 => 0xB3C2CCC7#32
  | 71 => 0x33C143B0#32
  | 72 => 0xB3BFCDE6#32
  | 73 => 0x33BE6AE7#32
  | 74 => 0xB3BD1A36#32
  | 75 => 0x33BBDB61#32
  | 76 => 0xB3BAADFB#32
  | 77 => 0x33B9919E#32
  | 78 => 0xB3B885EC#32
  | 79 => 0x33B78A8A#32
  | 80 => 0xB3B69F28#32
  | 81 => 0x33B5C377#32
  | 82 => 0xB3B4F732#32
  | 83 => 0x33B43A15#32
  | 84 => 0xB3B38BE5#32
  | 85 => 0x33B2EC6A#32
  | 86 => 0xB3B25B72#32
  | 87 => 0x33B1D8CF#32
  | 88 => 0xB3B16459#32
  | 89 => 0x33B0FDEA#32
  | 90 => 0xB3B0A563#32
  | 91 => 0x33B05AA9#32
  | 92 => 0xB3B01DA5#32
  | 93 => 0x33AFEE43#32
  | 94 => 0xB3AFCC75#32
  | 95 => 0x33AFB831#32
  | 96 => 0xB3AFB170#32
  | 97 => 0x33AFB831#32
  | 98 => 0xB3AFCC75#32
  | 99 => 0x33AFEE43#32
  | 100 => 0xB3B01DA5#32
  | 101 => 0x33B05AA9#32
  | 102 => 0xB3B0A563#32
  | 103 => 0x33B0FDEA#32
  | 104 => 0xB3B16459#32
  | 105 => 0x33B1D8CF#32
  | 106 => 0xB3B25B72#32
  | 107 => 0x33B2EC6A#32
  | 108 => 0xB3B38BE5#32
  | 109 => 0x33B43A15#32
  | 110 => 0xB3B4F732#32
  | 111 => 0x33B5C377#32
  | 112 => 0xB3B69F28#32
  | 113 => 0x33B78A8A#32
  | 114 => 0xB3B885EC#32
  | 115 => 0x33B9919E#32
  | 116 => 0xB3BAADFB#32
  | 117 => 0x33BBDB61#32
  | 118 => 0xB3BD1A36#32
  | 119 => 0x33BE6AE7#32
  | 120 => 0xB3BFCDE6#32
  | 121 => 0x33C143B0#32
  | 122 => 0xB3C2CCC7#32
  | 123 => 0x33C469B8#32
  | 124 => 0xB3C61B15#32
  | 125 => 0x33C7E17D#32
  | 126 => 0xB3C9BD97#32
  | 127 => 0x33CBB015#32
  | _ => 0#32

noncomputable abbrev lit0t0_449 (i : Nat) : BitVec 32 := match i % 128 with
  | 0 => 0xB3CDB9B1#32
  | 1 => 0x33CFDB34#32
  | 2 => 0xB3D21572#32
  | 3 => 0x33D4694B#32
  | 4 => 0xB3D6D7AE#32
  | 5 => 0x33D96196#32
  | 6 => 0xB3DC0810#32
  | 7 => 0x33DECC38#32
  | 8 => 0xB3E1AF3D#32
  | 9 => 0x33E4B25D#32
  | 10 => 0xB3E7D6EF#32
  | 11 => 0x33EB1E5A#32
  | 12 => 0xB3EE8A1F#32
  | 13 => 0x33F21BD6#32
  | 14 => 0xB3F5D532#32
  | 15 => 0x33F9B800#32
  | 16 => 0xB3FDC62E#32
  | 17 => 0x340100E3#32
  | 18 => 0xB403367C#32
  | 19 => 0x3405850C#32
  | 20 => 0xB407EDD1#32
  | 21 => 0x340A721F#32
  | 22 => 0xB40D1360#32
  | 23 => 0x340FD31A#32
  | 24 => 0xB412B2ED#32
  | 25 => 0x3415B495#32
  | 26 => 0xB418D9F0#32
  | 27 => 0x341C2500#32
  | 28 => 0xB41F97EA#32
  | 29 => 0x342334FF#32
  | 30 => 0xB426FEBD#32
  | 31 => 0x342AF7D2#32
  | 32 => 0xB42F2322#32
  | 33 => 0x343383CC#32
  | 34 => 0xB4381D32#32
  | 35 => 0x343CF2FA#32
  | 36 => 0xB4420919#32
  | 37 => 0x344763DA#32
  | 38 => 0xB44D07E6#32
  | 39 => 0x3452FA51#32
  | 40 => 0xB45940A1#32
  | 41 => 0x345FE0DA#32
  | 42 => 0xB466E193#32
  | 43 => 0x346E49FF#32
  | 44 => 0xB4762200#32
  | 45 => 0x347E723F#32
  | 46 => 0xB483A221#32
  | 47 => 0x34885143#32
  | 48 => 0xB48D4C4D#32
  | 49 => 0x349299A5#32
  | 50 => 0xB4984061#32
  | 51 => 0x349E485F#32
  | 52 => 0xB4A4BA5F#32
  | 53 => 0x34ABA023#32
  | 54 => 0xB4B30492#32
  | 55 => 0x34BAF3E5#32
  | 56 => 0xB4C37BD6#32
  | 57 => 0x34CCABDA#32
  | 58 => 0xB4D69568#32
  | 59 => 0x34E14C49#32
  | 60 => 0xB4ECE6F7#32
  | 61 => 0x34F97F13#32
  | 62 => 0xB50398F7#32
  | 63 => 0x350B1097#32
  | 64 => 0xB51339CD#32
  | 65 => 0x351C2B08#32
  | 66 => 0xB525FE56#32
  | 67 => 0x3530D21D#32
  | 68 => 0xB53CCA00#32
  | 69 => 0x354A0FF9#32
  | 70 => 0xB558D5BB#32
  | 71 => 0x35695670#32
  | 72 => 0xB57BD8F1#32
  | 73 => 0x3588594C#32
  | 74 => 0xB5942572#32
  | 75 => 0x35A19018#32
  | 76 => 0xB5B0E6EF#32
  | 77 => 0x35C28A3B#32
  | 78 => 0xB5D6F23A#32
  | 79 => 0x35EEB658#32
  | 80 => 0xB6054B76#32
  | 81 => 0x3615C529#32
  | 82 => 0xB6296767#32
  | 83 => 0x3641014B#32
  | 84 => 0xB65DA20C#32
  | 85 => 0x368056F2#32
  | 86 => 0xB695FBC4#32
  | 87 => 0x36B0ED61#32
  | 88 => 0xB6D29E9B#32
  | 89 => 0x36FFBDB2#32
  | 90 => 0xB692EE32#32
  | 91 => 0x391EBB1A#32
  | 92 => 0x3B12D0DF#32
  | 93 => 0x3CA0086D#32
  | 94 => 0x3DBAD58B#32
  | 95 => 0x3E6BB748#32
  | 96 => 0x3EA069FE#32
  | 97 => 0x3E6BB748#32
  | 98 => 0x3DBAD58B#32
  | 99 => 0x3CA0086D#32
  | 100 => 0x3B12D0DF#32
  | 101 => 0x391EBB1A#32
  | 102 => 0xB692EE32#32
  | 103 => 0x36FFBDB2#32
  | 104 => 0xB6D29E9B#32
  | 105 => 0x36B0ED61#32
  | 106 => 0xB695FBC4#32
  | 107 => 0x368056F2#32
  | 108 => 0xB65DA20C#32
  | 109 => 0x3641014B#32
  | 110 => 0xB6296767#32
  | 111 => 0x3615C529#32
  | 112 => 0xB6054B76#32
  | 113 => 0x35EEB658#32
  | 114 => 0xB5D6F23A#32
  | 115 => 0x35C28A3B#32
  | 116 => 0xB5B0E6EF#32
  | 117 => 0x35A19018#32
  | 118 => 0xB5942572#32
  | 119 => 0x3588594C#32
  | 120 => 0xB57BD8F1#32
  | 121 => 0x35695670#32
  | 122 => 0xB558D5BB#32
  | 123 => 0x354A0FF9#32
  | 124 => 0xB53CCA00#32
  | 125 => 0x3530D21D#32
  | 126 => 0xB525FE56#32
  | 127 => 0x351C2B08#32
  | _ => 0#32

noncomputable abbrev lit0t0_450 (i : Nat) : BitVec 32 := match i % 128 with
  | 0 => 0x351C2B08#32
  | 1 => 0xB51339CD#32
  | 2 => 0x350B1097#32
  | 3 => 0xB50398F7#32
  | 4 => 0x34F97F13#32
  | 5 => 0xB4ECE6F7#32
  | 6 => 0x34E14C49#32
  | 7 => 0xB4D69568#32
  | 8 => 0x34CCABDA#32
  | 9 => 0xB4C37BD6#32
  | 10 => 0x34BAF3E5#32
  | 11 => 0xB4B30492#32
  | 12 => 0x34ABA023#32
  | 13 => 0xB4A4BA5F#32
  | 14 => 0x349E485F#32
  | 15 => 0xB4984061#32
  | 16 => 0x349299A5#32
  | 17 => 0xB48D4C4D#32
  | 18 => 0x34885143#32
  | 19 => 0xB483A221#32
  | 20 => 0x347E723F#32
  | 21 => 0xB4762200#32
  | 22 => 0x346E49FF#32
  | 23 => 0xB466E193#32
  | 24 => 0x345FE0DA#32
  | 25 => 0xB45940A1#32
  | 26 => 0x3452FA51#32
  | 27 => 0xB44D07E6#32
  | 28 => 0x344763DA#32
  | 29 => 0xB4420919#32
  | 30 => 0x343CF2FA#32
  | 31 => 0xB4381D32#32
  | 32 => 0x343383CC#32
  | 33 => 0xB42F2322#32
  | 34 => 0x342AF7D2#32
  | 35 => 0xB426FEBD#32
  | 36 => 0x342334FF#32
  | 37 => 0xB41F97EA#32
  | 38 => 0x341C2500#32
  | 39 => 0xB418D9F0#32
  | 40 => 0x3415B495#32
  | 41 => 0xB412B2ED#32
  | 42 => 0x340FD31A#32
  | 43 => 0xB40D1360#32
  | 44 => 0x340A721F#32
  | 45 => 0xB407EDD1#32
  | 46 => 0x3405850C#32
  | 47 => 0xB403367C#32
  | 48 => 0x340100E3#32
  | 49 => 0xB3FDC62E#32
  | 50 => 0x33F9B800#32
  | 51 => 0xB3F5D532#32
  | 52 => 0x33F21BD6#32
  | 53 => 0xB3EE8A1F#32
  | 54 => 0x33EB1E5A#32
  | 55 => 0xB3E7D6EF#32
  | 56 => 0x33E4B25D#32
  | 57 => 0xB3E1AF3D#32
  | 58 => 0x33DECC38#32
  | 59 => 0xB3DC0810#32
  | 60 => 0x33D96196#32
  | 61 => 0xB3D6D7AE#32
  | 62 => 0x33D4694B#32
  | 63 => 0xB3D21572#32
  | 64 => 0x33CFDB34#32
  | 65 => 0xB3CDB9B1#32
  | 66 => 0x33CBB015#32
  | 67 => 0xB3C9BD97#32
  | 68 => 0x33C7E17D#32
  | 69 => 0xB3C61B15#32
  | 70 => 0x33C469B8#32
  | 71 => 0xB3C2CCC7#32
  | 72 => 0x33C143B0#32
  | 73 => 0xB3BFCDE6#32
  | 74 => 0x33BE6AE7#32
  | 75 => 0xB3BD1A36#32
  | 76 => 0x33BBDB61#32
  | 77 => 0xB3BAADFB#32
  | 78 => 0x33B9919E#32
  | 79 => 0xB3B885EC#32
  | 80 => 0x33B78A8A#32
  | 81 => 0xB3B69F28#32
  | 82 => 0x33B5C377#32
  | 83 => 0xB3B4F732#32
  | 84 => 0x33B43A15#32
  | 85 => 0xB3B38BE5#32
  | 86 => 0x33B2EC6A#32
  | 87 => 0xB3B25B72#32
  | 88 => 0x33B1D8CF#32
  | 89 => 0xB3B16459#32
  | 90 => 0x33B0FDEA#32
  | 91 => 0xB3B0A563#32
  | 92 => 0x33B05AA9#32
  | 93 => 0xB3B01DA5#32
  | 94 => 0x33AFEE43#32
  | 95 => 0xB3AFCC75#32
  | 96 => 0x33AFB831#32
  | 97 => 0xB3AFB170#32
  | 98 => 0x33AFB831#32
  | 99 => 0xB3AFCC75#32
  | 100 => 0x33AFEE43#32
  | 101 => 0xB3B01DA5#32
  | 102 => 0x33B05AA9#32
  | 103 => 0xB3B0A563#32
  | 104 => 0x33B0FDEA#32
  | 105 => 0xB3B16459#32
  | 106 => 0x33B1D8CF#32
  | 107 => 0xB3B25B72#32
  | 108 => 0x33B2EC6A#32
  | 109 => 0xB3B38BE5#32
  | 110 => 0x33B43A15#32
  | 111 => 0xB3B4F732#32
  | 112 => 0x33B5C377#32
  | 113 => 0xB3B69F28#32
  | 114 => 0x33B78A8A#32
  | 115 => 0xB3B885EC#32
  | 116 => 0x33B9919E#32
  | 117 => 0xB3BAADFB#32
  | 118 => 0x33BBDB61#32
  | 119 => 0xB3BD1A36#32
  | 120 => 0x33BE6AE7#32
  | 121 => 0xB3BFCDE6#32
  | 122 => 0x33C143B0#32
  | 123 => 0xB3C2CCC7#32
  | 124 => 0x33C469B8#32
  | 125 => 0xB3C61B15#32
  | 126 => 0x33C7E17D#32
  | 127 => 0xB3C9BD97#32
  | _ => 0#32

noncomputable abbrev lit0t0_451 (i : Nat) : BitVec 32 := match i % 128 with
  | 0 => 0x33CBB015#32
  | 1 => 0xB3CDB9B1#32
  | 2 => 0x33CFDB34#32
  | 3 => 0xB3D21572#32
  | 4 => 0x33D4694B#32
  | 5 => 0xB3D6D7AE#32
  | 6 => 0x33D96196#32
  | 7 => 0xB3DC0810#32
  | 8 => 0x33DECC38#32
  | 9 => 0xB3E1AF3D#32
  | 10 => 0x33E4B25D#32
  | 11 => 0xB3E7D6EF#32
  | 12 => 0x33EB1E5A#32
  | 13 => 0xB3EE8A1F#32
  | 14 => 0x33F21BD6#32
  | 15 => 0xB3F5D532#32
  | 16 => 0x33F9B800#32
  | 17 => 0xB3FDC62E#32
  | 18 => 0x340100E3#32
  | 19 => 0xB403367C#32
  | 20 => 0x3405850C#32
  | 21 => 0xB407EDD1#32
  | 22 => 0x340A721F#32
  | 23 => 0xB40D1360#32
  | 24 => 0x340FD31A#32
  | 25 => 0xB412B2ED#32
  | 26 => 0x3415B495#32
  | 27 => 0xB418D9F0#32
  | 28 => 0x341C2500#32
  | 29 => 0xB41F97EA#32
  | 30 => 0x342334FF#32
  | 31 => 0xB426FEBD#32
  | 32 => 0x342AF7D2#32
  | 33 => 0xB42F2322#32
  | 34 => 0x343383CC#32
  | 35 => 0xB4381D32#32
  | 36 => 0x343CF2FA#32
  | 37 => 0xB4420919#32
  | 38 => 0x344763DA#32
  | 39 => 0xB44D07E6#32
  | 40 => 0x3452FA51#32
  | 41 => 0xB45940A1#32
  | 42 => 0x345FE0DA#32
  | 43 => 0xB466E193#32
  | 44 => 0x346E49FF#32
  | 45 => 0xB4762200#32
  | 46 => 0x347E723F#32
  | 47 => 0xB483A221#32
  | 48 => 0x34885142#32
  | 49 => 0xB48D4C4D#32
  | 50 => 0x349299A5#32
  | 51 => 0xB4984061#32
  | 52 => 0x349E485F#32
  | 53 => 0xB4A4BA5F#32
  | 54 => 0x34ABA023#32
  | 55 => 0xB4B30492#32
  | 56 => 0x34BAF3E5#32
  | 57 => 0xB4C37BD6#32
  | 58 => 0x34CCABDA#32
  | 59 => 0xB4D69568#32
  | 60 => 0x34E14C49#32
  | 61 => 0xB4ECE6F7#32
  | 62 => 0x34F97F13#32
  | 63 => 0xB50398F7#32
  | 64 => 0x350B1097#32
  | 65 => 0xB51339CD#32
  | 66 => 0x351C2B08#32
  | 67 => 0xB525FE56#32
  | 68 => 0x3530D21D#32
  | 69 => 0xB53CCA00#32
  | 70 => 0x354A0FF9#32
  | 71 => 0xB558D5BB#32
  | 72 => 0x35695670#32
  | 73 => 0xB57BD8F1#32
  | 74 => 0x3588594C#32
  | 75 => 0xB5942572#32
  | 76 => 0x35A19018#32
  | 77 => 0xB5B0E6EF#32
  | 78 => 0x35C28A3B#32
  | 79 => 0xB5D6F23A#32
  | 80 => 0x35EEB658#32
  | 81 => 0xB6054B76#32
  | 82 => 0x3615C529#32
  | 83 => 0xB6296767#32
  | 84 => 0x3641014B#32
  | 85 => 0xB65DA20C#32
  | 86 => 0x368056F2#32
  | 87 => 0xB695FBC4#32
  | 88 => 0x36B0ED61#32
  | 89 => 0xB6D29E9B#32
  | 90 => 0x36FFBDB2#32
  | 91 => 0xB692EE32#32
  | 92 => 0x391EBB1A#32
  | 93 => 0x3B12D0DF#32
  | 94 => 0x3CA0086D#32
  | 95 => 0x3DBAD58B#32
  | 96 => 0x3E6BB748#32
  | 97 => 0x3EA069FE#32
  | 98 => 0x3E6BB748#32
  | 99 => 0x3DBAD58B#32
  | 100 => 0x3CA0086D#32
  | 101 => 0x3B12D0DF#32
  | 102 => 0x391EBB1A#32
  | 103 => 0xB692EE32#32
  | 104 => 0x36FFBDB2#32
  | 105 => 0xB6D29E9B#32
  | 106 => 0x36B0ED61#32
  | 107 => 0xB695FBC4#32
  | 108 => 0x368056F2#32
  | 109 => 0xB65DA20C#32
  | 110 => 0x3641014B#32
  | 111 => 0xB6296767#32
  | 112 => 0x3615C529#32
  | 113 => 0xB6054B76#32
  | 114 => 0x35EEB658#32
  | 115 => 0xB5D6F23A#32
  | 116 => 0x35C28A3B#32
  | 117 => 0xB5B0E6EF#32
  | 118 => 0x35A19018#32
  | 119 => 0xB5942572#32
  | 120 => 0x3588594C#32
  | 121 => 0xB57BD8F1#32
  | 122 => 0x35695670#32
  | 123 => 0xB558D5BB#32
  | 124 => 0x354A0FF9#32
  | 125 => 0xB53CCA00#32
  | 126 => 0x3530D21D#32
  | 127 => 0xB525FE56#32
  | _ => 0#32

noncomputable abbrev lit0t0_452 (i : Nat) : BitVec 32 := match i % 128 with
  | 0 => 0xB525FE56#32
  | 1 => 0x351C2B08#32
  | 2 => 0xB51339CD#32
  | 3 => 0x350B1097#32
  | 4 => 0xB50398F7#32
  | 5 => 0x34F97F13#32
  | 6 => 0xB4ECE6F7#32
  | 7 => 0x34E14C49#32
  | 8 => 0xB4D69568#32
  | 9 => 0x34CCABDA#32
  | 10 => 0xB4C37BD6#32
  | 11 => 0x34BAF3E5#32
  | 12 => 0xB4B30492#32
  | 13 => 0x34ABA023#32
  | 14 => 0xB4A4BA5F#32
  | 15 => 0x349E485F#32
  | 16 => 0xB4984061#32
  | 17 => 0x349299A5#32
  | 18 => 0xB48D4C4D#32
  | 19 => 0x34885143#32
  | 20 => 0xB483A221#32
  | 21 => 0x347E723F#32
  | 22 => 0xB4762200#32
  | 23 => 0x346E49FF#32
  | 24 => 0xB466E193#32
  | 25 => 0x345FE0DA#32
  | 26 => 0xB45940A1#32
  | 27 => 0x3452FA51#32
  | 28 => 0xB44D07E6#32
  | 29 => 0x344763DA#32
  | 30 => 0xB4420919#32
  | 31 => 0x343CF2FA#32
  | 32 => 0xB4381D32#32
  | 33 => 0x343383CC#32
  | 34 => 0xB42F2322#32
  | 35 => 0x342AF7D2#32
  | 36 => 0xB426FEBD#32
  | 37 => 0x342334FF#32
  | 38 => 0xB41F97EA#32
  | 39 => 0x341C2500#32
  | 40 => 0xB418D9F0#32
  | 41 => 0x3415B495#32
  | 42 => 0xB412B2ED#32
  | 43 => 0x340FD31A#32
  | 44 => 0xB40D1360#32
  | 45 => 0x340A721F#32
  | 46 => 0xB407EDD1#32
  | 47 => 0x3405850C#32
  | 48 => 0xB403367C#32
  | 49 => 0x340100E3#32
  | 50 => 0xB3FDC62E#32
  | 51 => 0x33F9B800#32
  | 52 => 0xB3F5D532#32
  | 53 => 0x33F21BD6#32
  | 54 => 0xB3EE8A1F#32
  | 55 => 0x33EB1E5A#32
  | 56 => 0xB3E7D6EF#32
  | 57 => 0x33E4B25D#32
  | 58 => 0xB3E1AF3D#32
  | 59 => 0x33DECC38#32
  | 60 => 0xB3DC0810#32
  | 61 => 0x33D96196#32
  | 62 => 0xB3D6D7AE#32
  | 63 => 0x33D4694B#32
  | 64 => 0xB3D21572#32
  | 65 => 0x33CFDB34#32
  | 66 => 0xB3CDB9B1#32
  | 67 => 0x33CBB015#32
  | 68 => 0xB3C9BD97#32
  | 69 => 0x33C7E17D#32
  | 70 => 0xB3C61B15#32
  | 71 => 0x33C469B8#32
  | 72 => 0xB3C2CCC7#32
  | 73 => 0x33C143B0#32
  | 74 => 0xB3BFCDE6#32
  | 75 => 0x33BE6AE7#32
  | 76 => 0xB3BD1A36#32
  | 77 => 0x33BBDB61#32
  | 78 => 0xB3BAADFB#32
  | 79 => 0x33B9919E#32
  | 80 => 0xB3B885EC#32
  | 81 => 0x33B78A8A#32
  | 82 => 0xB3B69F28#32
  | 83 => 0x33B5C377#32
  | 84 => 0xB3B4F732#32
  | 85 => 0x33B43A15#32
  | 86 => 0xB3B38BE5#32
  | 87 => 0x33B2EC6A#32
  | 88 => 0xB3B25B72#32
  | 89 => 0x33B1D8CF#32
  | 90 => 0xB3B16459#32
  | 91 => 0x33B0FDEA#32
  | 92 => 0xB3B0A563#32
  | 93 => 0x33B05AA9#32
  | 94 => 0xB3B01DA5#32
  | 95 => 0x33AFEE43#32
  | 96 => 0xB3AFCC75#32
  | 97 => 0x33AFB831#32
  | 98 => 0xB3AFB170#32
  | 99 => 0x33AFB831#32
  | 100 => 0xB3AFCC75#32
  | 101 => 0x33AFEE43#32
  | 102 => 0xB3B01DA5#32
  | 103 => 0x33B05AA9#32
  | 104 => 0xB3B0A563#32
  | 105 => 0x33B0FDEA#32
  | 106 => 0xB3B16459#32
  | 107 => 0x33B1D8CF#32
  | 108 => 0xB3B25B72#32
  | 109 => 0x33B2EC6A#32
  | 110 => 0xB3B38BE5#32
  | 111 => 0x33B43A15#32
  | 112 => 0xB3B4F732#32
  | 113 => 0x33B5C377#32
  | 114 => 0xB3B69F28#32
  | 115 => 0x33B78A8A#32
  | 116 => 0xB3B885EC#32
  | 117 => 0x33B9919E#32
  | 118 => 0xB3BAADFB#32
  | 119 => 0x33BBDB61#32
  | 120 => 0xB3BD1A36#32
  | 121 => 0x33BE6AE7#32
  | 122 => 0xB3BFCDE6#32
  | 123 => 0x33C143B0#32
  | 124 => 0xB3C2CCC7#32
  | 125 => 0x33C469B8#32
  | 126 => 0xB3C61B15#32
  | 127 => 0x33C7E17D#32
  | _ => 0#32

noncomputable abbrev lit0t0_453 (i : Nat) : BitVec 32 := match i % 128 with
  | 0 => 0xB3C9BD97#32
  | 1 => 0x33CBB015#32
  | 2 => 0xB3CDB9B1#32
  | 3 => 0x33CFDB34#32
  | 4 => 0xB3D21572#32
  | 5 => 0x33D4694B#32
  | 6 => 0xB3D6D7AE#32
  | 7 => 0x33D96196#32
  | 8 => 0xB3DC0810#32
  | 9 => 0x33DECC38#32
  | 10 => 0xB3E1AF3D#32
  | 11 => 0x33E4B25D#32
  | 12 => 0xB3E7D6EF#32
  | 13 => 0x33EB1E5A#32
  | 14 => 0xB3EE8A1F#32
  | 15 => 0x33F21BD6#32
  | 16 => 0xB3F5D532#32
  | 17 => 0x33F9B800#32
  | 18 => 0xB3FDC62E#32
  | 19 => 0x340100E3#32
  | 20 => 0xB403367C#32
  | 21 => 0x3405850C#32
  | 22 => 0xB407EDD1#32
  | 23 => 0x340A721F#32
  | 24 => 0xB40D1360#32
  | 25 => 0x340FD31A#32
  | 26 => 0xB412B2ED#32
  | 27 => 0x3415B495#32
  | 28 => 0xB418D9F0#32
  | 29 => 0x341C2500#32
  | 30 => 0xB41F97EA#32
  | 31 => 0x342334FF#32
  | 32 => 0xB426FEBD#32
  | 33 => 0x342AF7D2#32
  | 34 => 0xB42F2322#32
  | 35 => 0x343383CC#32
  | 36 => 0xB4381D32#32
  | 37 => 0x343CF2FA#32
  | 38 => 0xB4420919#32
  | 39 => 0x344763DA#32
  | 40 => 0xB44D07E6#32
  | 41 => 0x3452FA51#32
  | 42 => 0xB45940A1#32
  | 43 => 0x345FE0DA#32
  | 44 => 0xB466E193#32
  | 45 => 0x346E49FF#32
  | 46 => 0xB4762200#32
  | 47 => 0x347E723F#32
  | 48 => 0xB483A221#32
  | 49 => 0x34885143#32
  | 50 => 0xB48D4C4D#32
  | 51 => 0x349299A5#32
  | 52 => 0xB4984061#32
  | 53 => 0x349E485F#32
  | 54 => 0xB4A4BA5F#32
  | 55 => 0x34ABA023#32
  | 56 => 0xB4B30492#32
  | 57 => 0x34BAF3E5#32
  | 58 => 0xB4C37BD6#32
  | 59 => 0x34CCABDA#32
  | 60 => 0xB4D69568#32
  | 61 => 0x34E14C49#32
  | 62 => 0xB4ECE6F7#32
  | 63 => 0x34F97F13#32
  | 64 => 0xB50398F7#32
  | 65 => 0x350B1097#32
  | 66 => 0xB51339CD#32
  | 67 => 0x351C2B08#32
  | 68 => 0xB525FE56#32
  | 69 => 0x3530D21D#32
  | 70 => 0xB53CCA00#32
  | 71 => 0x354A0FF9#32
  | 72 => 0xB558D5BB#32
  | 73 => 0x35695670#32
  | 74 => 0xB57BD8F1#32
  | 75 => 0x3588594C#32
  | 76 => 0xB5942572#32
  | 77 => 0x35A19018#32
  | 78 => 0xB5B0E6EF#32
  | 79 => 0x35C28A3B#32
  | 80 => 0xB5D6F23A#32
  | 81 => 0x35EEB658#32
  | 82 => 0xB6054B76#32
  | 83 => 0x3615C529#32
  | 84 => 0xB6296767#32
  | 85 => 0x3641014B#32
  | 86 => 0xB65DA20C#32
  | 87 => 0x368056F2#32
  | 88 => 0xB695FBC4#32
  | 89 => 0x36B0ED61#32
  | 90 => 0xB6D29E9B#32
  | 91 => 0x36FFBDB2#32
  | 92 => 0xB692EE32#32
  | 93 => 0x391EBB1A#32
  | 94 => 0x3B12D0DF#32
  | 95 => 0x3CA0086D#32
  | 96 => 0x3DBAD58B#32
  | 97 => 0x3E6BB748#32
  | 98 => 0x3EA069FE#32
  | 99 => 0x3E6BB748#32
  | 100 => 0x3DBAD58B#32
  | 101 => 0x3CA0086D#32
  | 102 => 0x3B12D0DF#32
  | 103 => 0x391EBB1A#32
  | 104 => 0xB692EE32#32
  | 105 => 0x36FFBDB2#32
  | 106 => 0xB6D29E9B#32
  | 107 => 0x36B0ED61#32
  | 108 => 0xB695FBC4#32
  | 109 => 0x368056F2#32
  | 110 => 0xB65DA20C#32
  | 111 => 0x3641014B#32
  | 112 => 0xB6296767#32
  | 113 => 0x3615C529#32
  | 114 => 0xB6054B76#32
  | 115 => 0x35EEB658#32
  | 116 => 0xB5D6F23A#32
  | 117 => 0x35C28A3B#32
  | 118 => 0xB5B0E6EF#32
  | 119 => 0x35A19018#32
  | 120 => 0xB5942572#32
  | 121 => 0x3588594C#32
  | 122 => 0xB57BD8F1#32
  | 123 => 0x35695670#32
  | 124 => 0xB558D5BB#32
  | 125 => 0x354A0FF9#32
  | 126 => 0xB53CCA00#32
  | 127 => 0x3530D21D#32
  | _ => 0#32

noncomputable abbrev lit0t0_454 (i : Nat) : BitVec 32 := match i % 128 with
  | 0 => 0x3530D21D#32
  | 1 => 0xB525FE56#32
  | 2 => 0x351C2B08#32
  | 3 => 0xB51339CD#32
  | 4 => 0x350B1097#32
  | 5 => 0xB50398F7#32
  | 6 => 0x34F97F13#32
  | 7 => 0xB4ECE6F7#32
  | 8 => 0x34E14C49#32
  | 9 => 0xB4D69568#32
  | 10 => 0x34CCABDA#32
  | 11 => 0xB4C37BD6#32
  | 12 => 0x34BAF3E5#32
  | 13 => 0xB4B30492#32
  | 14 => 0x34ABA023#32
  | 15 => 0xB4A4BA5F#32
  | 16 => 0x349E485F#32
  | 17 => 0xB4984061#32
  | 18 => 0x349299A5#32
  | 19 => 0xB48D4C4D#32
  | 20 => 0x34885142#32
  | 21 => 0xB483A221#32
  | 22 => 0x347E723F#32
  | 23 => 0xB4762200#32
  | 24 => 0x346E49FF#32
  | 25 => 0xB466E193#32
  | 26 => 0x345FE0DA#32
  | 27 => 0xB45940A1#32
  | 28 => 0x3452FA51#32
  | 29 => 0xB44D07E6#32
  | 30 => 0x344763DA#32
  | 31 => 0xB4420919#32
  | 32 => 0x343CF2FA#32
  | 33 => 0xB4381D32#32
  | 34 => 0x343383CC#32
  | 35 => 0xB42F2322#32
  | 36 => 0x342AF7D2#32
  | 37 => 0xB426FEBD#32
  | 38 => 0x342334FF#32
  | 39 => 0xB41F97EA#32
  | 40 => 0x341C2500#32
  | 41 => 0xB418D9F0#32
  | 42 => 0x3415B495#32
  | 43 => 0xB412B2ED#32
  | 44 => 0x340FD31A#32
  | 45 => 0xB40D1360#32
  | 46 => 0x340A721F#32
  | 47 => 0xB407EDD1#32
  | 48 => 0x3405850C#32
  | 49 => 0xB403367C#32
  | 50 => 0x340100E3#32
  | 51 => 0xB3FDC62E#32
  | 52 => 0x33F9B800#32
  | 53 => 0xB3F5D532#32
  | 54 => 0x33F21BD6#32
  | 55 => 0xB3EE8A1F#32
  | 56 => 0x33EB1E5A#32
  | 57 => 0xB3E7D6EF#32
  | 58 => 0x33E4B25D#32
  | 59 => 0xB3E1AF3D#32
  | 60 => 0x33DECC38#32
  | 61 => 0xB3DC0810#32
  | 62 => 0x33D96196#32
  | 63 => 0xB3D6D7AE#32
  | 64 => 0x33D4694B#32
  | 65 => 0xB3D21572#32
  | 66 => 0x33CFDB34#32
  | 67 => 0xB3CDB9B1#32
  | 68 => 0x33CBB015#32
  | 69 => 0xB3C9BD97#32
  | 70 => 0x33C7E17D#32
  | 71 => 0xB3C61B15#32
  | 72 => 0x33C469B8#32
  | 73 => 0xB3C2CCC7#32
  | 74 => 0x33C143B0#32
  | 75 => 0xB3BFCDE6#32
  | 76 => 0x33BE6AE7#32
  | 77 => 0xB3BD1A36#32
  | 78 => 0x33BBDB61#32
  | 79 => 0xB3BAADFB#32
  | 80 => 0x33B9919E#32
  | 81 => 0xB3B885EC#32
  | 82 => 0x33B78A8A#32
  | 83 => 0xB3B69F28#32
  | 84 => 0x33B5C377#32
  | 85 => 0xB3B4F732#32
  | 86 => 0x33B43A15#32
  | 87 => 0xB3B38BE5#32
  | 88 => 0x33B2EC6A#32
  | 89 => 0xB3B25B72#32
  | 90 => 0x33B1D8CF#32
  | 91 => 0xB3B16459#32
  | 92 => 0x33B0FDEA#32
  | 93 => 0xB3B0A563#32
  | 94 => 0x33B05AA9#32
  | 95 => 0xB3B01DA5#32
  | 96 => 0x33AFEE43#32
  | 97 => 0xB3AFCC75#32
  | 98 => 0x33AFB831#32
  | 99 => 0xB3AFB170#32
  | 100 => 0x33AFB831#32
  | 101 => 0xB3AFCC75#32
  | 102 => 0x33AFEE43#32
  | 103 => 0xB3B01DA5#32
  | 104 => 0x33B05AA9#32
  | 105 => 0xB3B0A563#32
  | 106 => 0x33B0FDEA#32
  | 107 => 0xB3B16459#32
  | 108 => 0x33B1D8CF#32
  | 109 => 0xB3B25B72#32
  | 110 => 0x33B2EC6A#32
  | 111 => 0xB3B38BE5#32
  | 112 => 0x33B43A15#32
  | 113 => 0xB3B4F732#32
  | 114 => 0x33B5C377#32
  | 115 => 0xB3B69F28#32
  | 116 => 0x33B78A8A#32
  | 117 => 0xB3B885EC#32
  | 118 => 0x33B9919E#32
  | 119 => 0xB3BAADFB#32
  | 120 => 0x33BBDB61#32
  | 121 => 0xB3BD1A36#32
  | 122 => 0x33BE6AE7#32
  | 123 => 0xB3BFCDE6#32
  | 124 => 0x33C143B0#32
  | 125 => 0xB3C2CCC7#32
  | 126 => 0x33C469B8#32
  | 127 => 0xB3C61B15#32
  | _ => 0#32

noncomputable abbrev lit0t0_455 (i : Nat) : BitVec 32 := match i % 128 with
  | 0 => 0x33C7E17D#32
  | 1 => 0xB3C9BD97#32
  | 2 => 0x33CBB015#32
  | 3 => 0xB3CDB9B1#32
  | 4 => 0x33CFDB34#32
  | 5 => 0xB3D21572#32
  | 6 => 0x33D4694B#32
  | 7 => 0xB3D6D7AE#32
  | 8 => 0x33D96196#32
  | 9 => 0xB3DC0810#32
  | 10 => 0x33DECC38#32
  | 11 => 0xB3E1AF3D#32
  | 12 => 0x33E4B25D#32
  | 13 => 0xB3E7D6EF#32
  | 14 => 0x33EB1E5A#32
  | 15 => 0xB3EE8A1F#32
  | 16 => 0x33F21BD6#32
  | 17 => 0xB3F5D532#32
  | 18 => 0x33F9B800#32
  | 19 => 0xB3FDC62E#32
  | 20 => 0x340100E3#32
  | 21 => 0xB403367C#32
  | 22 => 0x3405850C#32
  | 23 => 0xB407EDD1#32
  | 24 => 0x340A721F#32
  | 25 => 0xB40D1360#32
  | 26 => 0x340FD31A#32
  | 27 => 0xB412B2ED#32
  | 28 => 0x3415B495#32
  | 29 => 0xB418D9F0#32
  | 30 => 0x341C2500#32
  | 31 => 0xB41F97EA#32
  | 32 => 0x342334FF#32
  | 33 => 0xB426FEBD#32
  | 34 => 0x342AF7D2#32
  | 35 => 0xB42F2322#32
  | 36 => 0x343383CC#32
  | 37 => 0xB4381D32#32
  | 38 => 0x343CF2FA#32
  | 39 => 0xB4420919#32
  | 40 => 0x344763DA#32
  | 41 => 0xB44D07E6#32
  | 42 => 0x3452FA51#32
  | 43 => 0xB45940A1#32
  | 44 => 0x345FE0DA#32
  | 45 => 0xB466E193#32
  | 46 => 0x346E49FF#32
  | 47 => 0xB4762200#32
  | 48 => 0x347E723F#32
  | 49 => 0xB483A221#32
  | 50 => 0x34885143#32
  | 51 => 0xB48D4C4D#32
  | 52 => 0x349299A5#32
  | 53 => 0xB4984061#32
  | 54 => 0x349E485F#32
  | 55 => 0xB4A4BA5F#32
  | 56 => 0x34ABA023#32
  | 57 => 0xB4B30492#32
  | 58 => 0x34BAF3E5#32
  | 59 => 0xB4C37BD6#32
  | 60 => 0x34CCABDA#32
  | 61 => 0xB4D69568#32
  | 62 => 0x34E14C49#32
  | 63 => 0xB4ECE6F7#32
  | 64 => 0x34F97F13#32
  | 65 => 0xB50398F7#32
  | 66 => 0x350B1097#32
  | 67 => 0xB51339CD#32
  | 68 => 0x351C2B08#32
  | 69 => 0xB525FE56#32
  | 70 => 0x3530D21D#32
  | 71 => 0xB53CCA00#32
  | 72 => 0x354A0FF9#32
  | 73 => 0xB558D5BB#32
  | 74 => 0x35695670#32
  | 75 => 0xB57BD8F1#32
  | 76 => 0x3588594C#32
  | 77 => 0xB5942572#32
  | 78 => 0x35A19018#32
  | 79 => 0xB5B0E6EF#32
  | 80 => 0x35C28A3B#32
  | 81 => 0xB5D6F23A#32
  | 82 => 0x35EEB658#32
  | 83 => 0xB6054B76#32
  | 84 => 0x3615C529#32
  | 85 => 0xB6296767#32
  | 86 => 0x3641014B#32
  | 87 => 0xB65DA20C#32
  | 88 => 0x368056F2#32
  | 89 => 0xB695FBC4#32
  | 90 => 0x36B0ED61#32
  | 91 => 0xB6D29E9B#32
  | 92 => 0x36FFBDB2#32
  | 93 => 0xB692EE32#32
  | 94 => 0x391EBB1A#32
  | 95 => 0x3B12D0DF#32
  | 96 => 0x3CA0086D#32
  | 97 => 0x3DBAD58B#32
  | 98 => 0x3E6BB748#32
  | 99 => 0x3EA069FE#32
  | 100 => 0x3E6BB748#32
  | 101 => 0x3DBAD58B#32
  | 102 => 0x3CA0086D#32
  | 103 => 0x3B12D0DF#32
  | 104 => 0x391EBB1A#32
  | 105 => 0xB692EE32#32
  | 106 => 0x36FFBDB2#32
  | 107 => 0xB6D29E9B#32
  | 108 => 0x36B0ED61#32
  | 109 => 0xB695FBC4#32
  | 110 => 0x368056F2#32
  | 111 => 0xB65DA20C#32
  | 112 => 0x3641014B#32
  | 113 => 0xB6296767#32
  | 114 => 0x3615C529#32
  | 115 => 0xB6054B76#32
  | 116 => 0x35EEB658#32
  | 117 => 0xB5D6F23A#32
  | 118 => 0x35C28A3B#32
  | 119 => 0xB5B0E6EF#32
  | 120 => 0x35A19018#32
  | 121 => 0xB5942572#32
  | 122 => 0x3588594C#32
  | 123 => 0xB57BD8F1#32
  | 124 => 0x35695670#32
  | 125 => 0xB558D5BB#32
  | 126 => 0x354A0FF9#32
  | 127 => 0xB53CCA00#32
  | _ => 0#32

noncomputable abbrev lit0t0_456 (i : Nat) : BitVec 32 := match i % 128 with
  | 0 => 0xB53CCA00#32
  | 1 => 0x3530D21D#32
  | 2 => 0xB525FE56#32
  | 3 => 0x351C2B08#32
  | 4 => 0xB51339CD#32
  | 5 => 0x350B1097#32
  | 6 => 0xB50398F7#32
  | 7 => 0x34F97F13#32
  | 8 => 0xB4ECE6F7#32
  | 9 => 0x34E14C49#32
  | 10 => 0xB4D69568#32
  | 11 => 0x34CCABDA#32
  | 12 => 0xB4C37BD6#32
  | 13 => 0x34BAF3E5#32
  | 14 => 0xB4B30492#32
  | 15 => 0x34ABA023#32
  | 16 => 0xB4A4BA5F#32
  | 17 => 0x349E485F#32
  | 18 => 0xB4984061#32
  | 19 => 0x349299A5#32
  | 20 => 0xB48D4C4D#32
  | 21 => 0x34885143#32
  | 22 => 0xB483A221#32
  | 23 => 0x347E723F#32
  | 24 => 0xB4762200#32
  | 25 => 0x346E49FF#32
  | 26 => 0xB466E193#32
  | 27 => 0x345FE0DA#32
  | 28 => 0xB45940A1#32
  | 29 => 0x3452FA51#32
  | 30 => 0xB44D07E6#32
  | 31 => 0x344763DA#32
  | 32 => 0xB4420919#32
  | 33 => 0x343CF2FA#32
  | 34 => 0xB4381D32#32
  | 35 => 0x343383CC#32
  | 36 => 0xB42F2322#32
  | 37 => 0x342AF7D2#32
  | 38 => 0xB426FEBD#32
  | 39 => 0x342334FF#32
  | 40 => 0xB41F97EA#32
  | 41 => 0x341C2500#32
  | 42 => 0xB418D9F0#32
  | 43 => 0x3415B495#32
  | 44 => 0xB412B2ED#32
  | 45 => 0x340FD31A#32
  | 46 => 0xB40D1360#32
  | 47 => 0x340A721F#32
  | 48 => 0xB407EDD1#32
  | 49 => 0x3405850C#32
  | 50 => 0xB403367C#32
  | 51 => 0x340100E3#32
  | 52 => 0xB3FDC62E#32
  | 53 => 0x33F9B800#32
  | 54 => 0xB3F5D532#32
  | 55 => 0x33F21BD6#32
  | 56 => 0xB3EE8A1F#32
  | 57 => 0x33EB1E5A#32
  | 58 => 0xB3E7D6EF#32
  | 59 => 0x33E4B25D#32
  | 60 => 0xB3E1AF3D#32
  | 61 => 0x33DECC38#32
  | 62 => 0xB3DC0810#32
  | 63 => 0x33D96196#32
  | 64 => 0xB3D6D7AE#32
  | 65 => 0x33D4694B#32
  | 66 => 0xB3D21572#32
  | 67 => 0x33CFDB34#32
  | 68 => 0xB3CDB9B1#32
  | 69 => 0x33CBB015#32
  | 70 => 0xB3C9BD97#32
  | 71 => 0x33C7E17D#32
  | 72 => 0xB3C61B15#32
  | 73 => 0x33C469B8#32
  | 74 => 0xB3C2CCC7#32
  | 75 => 0x33C143B0#32
  | 76 => 0xB3BFCDE6#32
  | 77 => 0x33BE6AE7#32
  | 78 => 0xB3BD1A36#32
  | 79 => 0x33BBDB61#32
  | 80 => 0xB3BAADFB#32
  | 81 => 0x33B9919E#32
  | 82 => 0xB3B885EC#32
  | 83 => 0x33B78A8A#32
  | 84 => 0xB3B69F28#32
  | 85 => 0x33B5C377#32
  | 86 => 0xB3B4F732#32
  | 87 => 0x33B43A15#32
  | 88 => 0xB3B38BE5#32
  | 89 => 0x33B2EC6A#32
  | 90 => 0xB3B25B72#32
  | 91 => 0x33B1D8CF#32
  | 92 => 0xB3B16459#32
  | 93 => 0x33B0FDEA#32
  | 94 => 0xB3B0A563#32
  | 95 => 0x33B05AA9#32
  | 96 => 0xB3B01DA5#32
  | 97 => 0x33AFEE43#32
  | 98 => 0xB3AFCC75#32
  | 99 => 0x33AFB831#32
  | 100 => 0xB3AFB170#32
  | 101 => 0x33AFB831#32
  | 102 => 0xB3AFCC75#32
  | 103 => 0x33AFEE43#32
  | 104 => 0xB3B01DA5#32
  | 105 => 0x33B05AA9#32
  | 106 => 0xB3B0A563#32
  | 107 => 0x33B0FDEA#32
  | 108 => 0xB3B16459#32
  | 109 => 0x33B1D8CF#32
  | 110 => 0xB3B25B72#32
  | 111 => 0x33B2EC6A#32
  | 112 => 0xB3B38BE5#32
  | 113 => 0x33B43A15#32
  | 114 => 0xB3B4F732#32
  | 115 => 0x33B5C377#32
  | 116 => 0xB3B69F28#32
  | 117 => 0x33B78A8A#32
  | 118 => 0xB3B885EC#32
  | 119 => 0x33B9919E#32
  | 120 => 0xB3BAADFB#32
  | 121 => 0x33BBDB61#32
  | 122 => 0xB3BD1A36#32
  | 123 => 0x33BE6AE7#32
  | 124 => 0xB3BFCDE6#32
  | 125 => 0x33C143B0#32
  | 126 => 0xB3C2CCC7#32
  | 127 => 0x33C469B8#32
  | _ => 0#32

noncomputable abbrev lit0t0_457 (i : Nat) : BitVec 32 := match i % 128 with
  | 0 => 0xB3C61B15#32
  | 1 => 0x33C7E17D#32
  | 2 => 0xB3C9BD97#32
  | 3 => 0x33CBB015#32
  | 4 => 0xB3CDB9B1#32
  | 5 => 0x33CFDB34#32
  | 6 => 0xB3D21572#32
  | 7 => 0x33D4694B#32
  | 8 => 0xB3D6D7AE#32
  | 9 => 0x33D96196#32
  | 10 => 0xB3DC0810#32
  | 11 => 0x33DECC38#32
  | 12 => 0xB3E1AF3D#32
  | 13 => 0x33E4B25D#32
  | 14 => 0xB3E7D6EF#32
  | 15 => 0x33EB1E5A#32
  | 16 => 0xB3EE8A1F#32
  | 17 => 0x33F21BD6#32
  | 18 => 0xB3F5D532#32
  | 19 => 0x33F9B800#32
  | 20 => 0xB3FDC62E#32
  | 21 => 0x340100E3#32
  | 22 => 0xB403367C#32
  | 23 => 0x3405850C#32
  | 24 => 0xB407EDD1#32
  | 25 => 0x340A721F#32
  | 26 => 0xB40D1360#32
  | 27 => 0x340FD31A#32
  | 28 => 0xB412B2ED#32
  | 29 => 0x3415B495#32
  | 30 => 0xB418D9F0#32
  | 31 => 0x341C2500#32
  | 32 => 0xB41F97EA#32
  | 33 => 0x342334FF#32
  | 34 => 0xB426FEBD#32
  | 35 => 0x342AF7D2#32
  | 36 => 0xB42F2322#32
  | 37 => 0x343383CC#32
  | 38 => 0xB4381D32#32
  | 39 => 0x343CF2FA#32
  | 40 => 0xB4420919#32
  | 41 => 0x344763DA#32
  | 42 => 0xB44D07E6#32
  | 43 => 0x3452FA51#32
  | 44 => 0xB45940A1#32
  | 45 => 0x345FE0DA#32
  | 46 => 0xB466E193#32
  | 47 => 0x346E49FF#32
  | 48 => 0xB4762200#32
  | 49 => 0x347E723F#32
  | 50 => 0xB483A221#32
  | 51 => 0x34885142#32
  | 52 => 0xB48D4C4D#32
  | 53 => 0x349299A5#32
  | 54 => 0xB4984061#32
  | 55 => 0x349E485F#32
  | 56 => 0xB4A4BA5F#32
  | 57 => 0x34ABA023#32
  | 58 => 0xB4B30492#32
  | 59 => 0x34BAF3E5#32
  | 60 => 0xB4C37BD6#32
  | 61 => 0x34CCABDA#32
  | 62 => 0xB4D69568#32
  | 63 => 0x34E14C49#32
  | 64 => 0xB4ECE6F7#32
  | 65 => 0x34F97F13#32
  | 66 => 0xB50398F7#32
  | 67 => 0x350B1097#32
  | 68 => 0xB51339CD#32
  | 69 => 0x351C2B08#32
  | 70 => 0xB525FE56#32
  | 71 => 0x3530D21D#32
  | 72 => 0xB53CCA00#32
  | 73 => 0x354A0FF9#32
  | 74 => 0xB558D5BB#32
  | 75 => 0x35695670#32
  | 76 => 0xB57BD8F1#32
  | 77 => 0x3588594C#32
  | 78 => 0xB5942572#32
  | 79 => 0x35A19018#32
  | 80 => 0xB5B0E6EF#32
  | 81 => 0x35C28A3B#32
  | 82 => 0xB5D6F23A#32
  | 83 => 0x35EEB658#32
  | 84 => 0xB6054B76#32
  | 85 => 0x3615C529#32
  | 86 => 0xB6296767#32
  | 87 => 0x3641014B#32
  | 88 => 0xB65DA20C#32
  | 89 => 0x368056F2#32
  | 90 => 0xB695FBC4#32
  | 91 => 0x36B0ED61#32
  | 92 => 0xB6D29E9B#32
  | 93 => 0x36FFBDB2#32
  | 94 => 0xB692EE32#32
  | 95 => 0x391EBB1A#32
  | 96 => 0x3B12D0DF#32
  | 97 => 0x3CA0086D#32
  | 98 => 0x3DBAD58B#32
  | 99 => 0x3E6BB748#32
  | 100 => 0x3EA069FE#32
  | 101 => 0x3E6BB748#32
  | 102 => 0x3DBAD58B#32
  | 103 => 0x3CA0086D#32
  | 104 => 0x3B12D0DF#32
  | 105 => 0x391EBB1A#32
  | 106 => 0xB692EE32#32
  | 107 => 0x36FFBDB2#32
  | 108 => 0xB6D29E9B#32
  | 109 => 0x36B0ED61#32
  | 110 => 0xB695FBC4#32
  | 111 => 0x368056F2#32
  | 112 => 0xB65DA20C#32
  | 113 => 0x3641014B#32
  | 114 => 0xB6296767#32
  | 115 => 0x3615C529#32
  | 116 => 0xB6054B76#32
  | 117 => 0x35EEB658#32
  | 118 => 0xB5D6F23A#32
  | 119 => 0x35C28A3B#32
  | 120 => 0xB5B0E6EF#32
  | 121 => 0x35A19018#32
  | 122 => 0xB5942572#32
  | 123 => 0x3588594C#32
  | 124 => 0xB57BD8F1#32
  | 125 => 0x35695670#32
  | 126 => 0xB558D5BB#32
  | 127 => 0x354A0FF9#32
  | _ => 0#32

noncomputable abbrev lit0t0_458 (i : Nat) : BitVec 32 := match i % 128 with
  | 0 => 0x354A0FF9#32
  | 1 => 0xB53CCA00#32
  | 2 => 0x3530D21D#32
  | 3 => 0xB525FE56#32
  | 4 => 0x351C2B08#32
  | 5 => 0xB51339CD#32
  | 6 => 0x350B1097#32
  | 7 => 0xB50398F7#32
  | 8 => 0x34F97F13#32
  | 9 => 0xB4ECE6F7#32
  | 10 => 0x34E14C49#32
  | 11 => 0xB4D69568#32
  | 12 => 0x34CCABDA#32
  | 13 => 0xB4C37BD6#32
  | 14 => 0x34BAF3E5#32
  | 15 => 0xB4B30492#32
  | 16 => 0x34ABA023#32
  | 17 => 0xB4A4BA5F#32
  | 18 => 0x349E485F#32
  | 19 => 0xB4984061#32
  | 20 => 0x349299A5#32
  | 21 => 0xB48D4C4D#32
  | 22 => 0x34885143#32
  | 23 => 0xB483A221#32
  | 24 => 0x347E723F#32
  | 25 => 0xB4762200#32
  | 26 => 0x346E49FF#32
  | 27 => 0xB466E193#32
  | 28 => 0x345FE0DA#32
  | 29 => 0xB45940A1#32
  | 30 => 0x3452FA51#32
  | 31 => 0xB44D07E6#32
  | 32 => 0x344763DA#32
  | 33 => 0xB4420919#32
  | 34 => 0x343CF2FA#32
  | 35 => 0xB4381D32#32
  | 36 => 0x343383CC#32
  | 37 => 0xB42F2322#32
  | 38 => 0x342AF7D2#32
  | 39 => 0xB426FEBD#32
  | 40 => 0x342334FF#32
  | 41 => 0xB41F97EA#32
  | 42 => 0x341C2500#32
  | 43 => 0xB418D9F0#32
  | 44 => 0x3415B495#32
  | 45 => 0xB412B2ED#32
  | 46 => 0x340FD31A#32
  | 47 => 0xB40D1360#32
  | 48 => 0x340A721F#32
  | 49 => 0xB407EDD1#32
  | 50 => 0x3405850C#32
  | 51 => 0xB403367C#32
  | 52 => 0x340100E3#32
  | 53 => 0xB3FDC62E#32
  | 54 => 0x33F9B800#32
  | 55 => 0xB3F5D532#32
  | 56 => 0x33F21BD6#32
  | 57 => 0xB3EE8A1F#32
  | 58 => 0x33EB1E5A#32
  | 59 => 0xB3E7D6EF#32
  | 60 => 0x33E4B25D#32
  | 61 => 0xB3E1AF3D#32
  | 62 => 0x33DECC38#32
  | 63 => 0xB3DC0810#32
  | 64 => 0x33D96196#32
  | 65 => 0xB3D6D7AE#32
  | 66 => 0x33D4694B#32
  | 67 => 0xB3D21572#32
  | 68 => 0x33CFDB34#32
  | 69 => 0xB3CDB9B1#32
  | 70 => 0x33CBB015#32
  | 71 => 0xB3C9BD97#32
  | 72 => 0x33C7E17D#32
  | 73 => 0xB3C61B15#32
  | 74 => 0x33C469B8#32
  | 75 => 0xB3C2CCC7#32
  | 76 => 0x33C143B0#32
  | 77 => 0xB3BFCDE6#32
  | 78 => 0x33BE6AE7#32
  | 79 => 0xB3BD1A36#32
  | 80 => 0x33BBDB61#32
  | 81 => 0xB3BAADFB#32
  | 82 => 0x33B9919E#32
  | 83 => 0xB3B885EC#32
  | 84 => 0x33B78A8A#32
  | 85 => 0xB3B69F28#32
  | 86 => 0x33B5C377#32
  | 87 => 0xB3B4F732#32
  | 88 => 0x33B43A15#32
  | 89 => 0xB3B38BE5#32
  | 90 => 0x33B2EC6A#32
  | 91 => 0xB3B25B72#32
  | 92 => 0x33B1D8CF#32
  | 93 => 0xB3B16459#32
  | 94 => 0x33B0FDEA#32
  | 95 => 0xB3B0A563#32
  | 96 => 0x33B05AA9#32
  | 97 => 0xB3B01DA5#32
  | 98 => 0x33AFEE43#32
  | 99 => 0xB3AFCC75#32
  | 100 => 0x33AFB831#32
  | 101 => 0xB3AFB170#32
  | 102 => 0x33AFB831#32
  | 103 => 0xB3AFCC75#32
  | 104 => 0x33AFEE43#32
  | 105 => 0xB3B01DA5#32
  | 106 => 0x33B05AA9#32
  | 107 => 0xB3B0A563#32
  | 108 => 0x33B0FDEA#32
  | 109 => 0xB3B16459#32
  | 110 => 0x33B1D8CF#32
  | 111 => 0xB3B25B72#32
  | 112 => 0x33B2EC6A#32
  | 113 => 0xB3B38BE5#32
  | 114 => 0x33B43A15#32
  | 115 => 0xB3B4F732#32
  | 116 => 0x33B5C377#32
  | 117 => 0xB3B69F28#32
  | 118 => 0x33B78A8A#32
  | 119 => 0xB3B885EC#32
  | 120 => 0x33B9919E#32
  | 121 => 0xB3BAADFB#32
  | 122 => 0x33BBDB61#32
  | 123 => 0xB3BD1A36#32
  | 124 => 0x33BE6AE7#32
  | 125 => 0xB3BFCDE6#32
  | 126 => 0x33C143B0#32
  | 127 => 0xB3C2CCC7#32
  | _ => 0#32

noncomputable abbrev lit0t0_459 (i : Nat) : BitVec 32 := match i % 128 with
  | 0 => 0x33C469B8#32
  | 1 => 0xB3C61B15#32
  | 2 => 0x33C7E17D#32
  | 3 => 0xB3C9BD97#32
  | 4 => 0x33CBB015#32
  | 5 => 0xB3CDB9B1#32
  | 6 => 0x33CFDB34#32
  | 7 => 0xB3D21572#32
  | 8 => 0x33D4694B#32
  | 9 => 0xB3D6D7AE#32
  | 10 => 0x33D96196#32
  | 11 => 0xB3DC0810#32
  | 12 => 0x33DECC38#32
  | 13 => 0xB3E1AF3D#32
  | 14 => 0x33E4B25D#32
  | 15 => 0xB3E7D6EF#32
  | 16 => 0x33EB1E5A#32
  | 17 => 0xB3EE8A1F#32
  | 18 => 0x33F21BD6#32
  | 19 => 0xB3F5D532#32
  | 20 => 0x33F9B800#32
  | 21 => 0xB3FDC62E#32
  | 22 => 0x340100E3#32
  | 23 => 0xB403367C#32
  | 24 => 0x3405850C#32
  | 25 => 0xB407EDD1#32
  | 26 => 0x340A721F#32
  | 27 => 0xB40D1360#32
  | 28 => 0x340FD31A#32
  | 29 => 0xB412B2ED#32
  | 30 => 0x3415B495#32
  | 31 => 0xB418D9F0#32
  | 32 => 0x341C2500#32
  | 33 => 0xB41F97EA#32
  | 34 => 0x342334FF#32
  | 35 => 0xB426FEBD#32
  | 36 => 0x342AF7D2#32
  | 37 => 0xB42F2322#32
  | 38 => 0x343383CC#32
  | 39 => 0xB4381D32#32
  | 40 => 0x343CF2FA#32
  | 41 => 0xB4420919#32
  | 42 => 0x344763DA#32
  | 43 => 0xB44D07E6#32
  | 44 => 0x3452FA51#32
  | 45 => 0xB45940A1#32
  | 46 => 0x345FE0DA#32
  | 47 => 0xB466E193#32
  | 48 => 0x346E49FF#32
  | 49 => 0xB4762200#32
  | 50 => 0x347E723F#32
  | 51 => 0xB483A221#32
  | 52 => 0x34885142#32
  | 53 => 0xB48D4C4D#32
  | 54 => 0x349299A5#32
  | 55 => 0xB4984061#32
  | 56 => 0x349E485F#32
  | 57 => 0xB4A4BA5F#32
  | 58 => 0x34ABA023#32
  | 59 => 0xB4B30492#32
  | 60 => 0x34BAF3E5#32
  | 61 => 0xB4C37BD6#32
  | 62 => 0x34CCABDA#32
  | 63 => 0xB4D69568#32
  | 64 => 0x34E14C49#32
  | 65 => 0xB4ECE6F7#32
  | 66 => 0x34F97F13#32
  | 67 => 0xB50398F7#32
  | 68 => 0x350B1097#32
  | 69 => 0xB51339CD#32
  | 70 => 0x351C2B08#32
  | 71 => 0xB525FE56#32
  | 72 => 0x3530D21D#32
  | 73 => 0xB53CCA00#32
  | 74 => 0x354A0FF9#32
  | 75 => 0xB558D5BB#32
  | 76 => 0x35695670#32
  | 77 => 0xB57BD8F1#32
  | 78 => 0x3588594C#32
  | 79 => 0xB5942572#32
  | 80 => 0x35A19018#32
  | 81 => 0xB5B0E6EF#32
  | 82 => 0x35C28A3B#32
  | 83 => 0xB5D6F23A#32
  | 84 => 0x35EEB658#32
  | 85 => 0xB6054B76#32
  | 86 => 0x3615C529#32
  | 87 => 0xB6296767#32
  | 88 => 0x3641014B#32
  | 89 => 0xB65DA20C#32
  | 90 => 0x368056F2#32
  | 91 => 0xB695FBC4#32
  | 92 => 0x36B0ED61#32
  | 93 => 0xB6D29E9B#32
  | 94 => 0x36FFBDB2#32
  | 95 => 0xB692EE32#32
  | 96 => 0x391EBB1A#32
  | 97 => 0x3B12D0DF#32
  | 98 => 0x3CA0086D#32
  | 99 => 0x3DBAD58B#32
  | 100 => 0x3E6BB748#32
  | 101 => 0x3EA069FE#32
  | 102 => 0x3E6BB748#32
  | 103 => 0x3DBAD58B#32
  | 104 => 0x3CA0086D#32
  | 105 => 0x3B12D0DF#32
  | 106 => 0x391EBB1A#32
  | 107 => 0xB692EE32#32
  | 108 => 0x36FFBDB2#32
  | 109 => 0xB6D29E9B#32
  | 110 => 0x36B0ED61#32
  | 111 => 0xB695FBC4#32
  | 112 => 0x368056F2#32
  | 113 => 0xB65DA20C#32
  | 114 => 0x3641014B#32
  | 115 => 0xB6296767#32
  | 116 => 0x3615C529#32
  | 117 => 0xB6054B76#32
  | 118 => 0x35EEB658#32
  | 119 => 0xB5D6F23A#32
  | 120 => 0x35C28A3B#32
  | 121 => 0xB5B0E6EF#32
  | 122 => 0x35A19018#32
  | 123 => 0xB5942572#32
  | 124 => 0x3588594C#32
  | 125 => 0xB57BD8F1#32
  | 126 => 0x35695670#32
  | 127 => 0xB558D5BB#32
  | _ => 0#32

noncomputable abbrev lit0t0_460 (i : Nat) : BitVec 32 := match i % 128 with
  | 0 => 0xB558D5BB#32
  | 1 => 0x354A0FF9#32
  | 2 => 0xB53CCA00#32
  | 3 => 0x3530D21D#32
  | 4 => 0xB525FE56#32
  | 5 => 0x351C2B08#32
  | 6 => 0xB51339CD#32
  | 7 => 0x350B1097#32
  | 8 => 0xB50398F7#32
  | 9 => 0x34F97F13#32
  | 10 => 0xB4ECE6F7#32
  | 11 => 0x34E14C49#32
  | 12 => 0xB4D69568#32
  | 13 => 0x34CCABDA#32
  | 14 => 0xB4C37BD6#32
  | 15 => 0x34BAF3E5#32
  | 16 => 0xB4B30492#32
  | 17 => 0x34ABA023#32
  | 18 => 0xB4A4BA5F#32
  | 19 => 0x349E485F#32
  | 20 => 0xB4984061#32
  | 21 => 0x349299A5#32
  | 22 => 0xB48D4C4D#32
  | 23 => 0x34885143#32
  | 24 => 0xB483A221#32
  | 25 => 0x347E723F#32
  | 26 => 0xB4762200#32
  | 27 => 0x346E49FF#32
  | 28 => 0xB466E193#32
  | 29 => 0x345FE0DA#32
  | 30 => 0xB45940A1#32
  | 31 => 0x3452FA51#32
  | 32 => 0xB44D07E6#32
  | 33 => 0x344763DA#32
  | 34 => 0xB4420919#32
  | 35 => 0x343CF2FA#32
  | 36 => 0xB4381D32#32
  | 37 => 0x343383CC#32
  | 38 => 0xB42F2322#32
  | 39 => 0x342AF7D2#32
  | 40 => 0xB426FEBD#32
  | 41 => 0x342334FF#32
  | 42 => 0xB41F97EA#32
  | 43 => 0x341C2500#32
  | 44 => 0xB418D9F0#32
  | 45 => 0x3415B495#32
  | 46 => 0xB412B2ED#32
  | 47 => 0x340FD31A#32
  | 48 => 0xB40D1360#32
  | 49 => 0x340A721F#32
  | 50 => 0xB407EDD1#32
  | 51 => 0x3405850C#32
  | 52 => 0xB403367C#32
  | 53 => 0x340100E3#32
  | 54 => 0xB3FDC62E#32
  | 55 => 0x33F9B800#32
  | 56 => 0xB3F5D532#32
  | 57 => 0x33F21BD6#32
  | 58 => 0xB3EE8A1F#32
  | 59 => 0x33EB1E5A#32
  | 60 => 0xB3E7D6EF#32
  | 61 => 0x33E4B25D#32
  | 62 => 0xB3E1AF3D#32
  | 63 => 0x33DECC38#32
  | 64 => 0xB3DC0810#32
  | 65 => 0x33D96196#32
  | 66 => 0xB3D6D7AE#32
  | 67 => 0x33D4694B#32
  | 68 => 0xB3D21572#32
  | 69 => 0x33CFDB34#32
  | 70 => 0xB3CDB9B1#32
  | 71 => 0x33CBB015#32
  | 72 => 0xB3C9BD97#32
  | 73 => 0x33C7E17D#32
  | 74 => 0xB3C61B15#32
  | 75 => 0x33C469B8#32
  | 76 => 0xB3C2CCC7#32
  | 77 => 0x33C143B0#32
  | 78 => 0xB3BFCDE6#32
  | 79 => 0x33BE6AE7#32
  | 80 => 0xB3BD1A36#32
  | 81 => 0x33BBDB61#32
  | 82 => 0xB3BAADFB#32
  | 83 => 0x33B9919E#32
  | 84 => 0xB3B885EC#32
  | 85 => 0x33B78A8A#32
  | 86 => 0xB3B69F28#32
  | 87 => 0x33B5C377#32
  | 88 => 0xB3B4F732#32
  | 89 => 0x33B43A15#32
  | 90 => 0xB3B38BE5#32
  | 91 => 0x33B2EC6A#32
  | 92 => 0xB3B25B72#32
  | 93 => 0x33B1D8CF#32
  | 94 => 0xB3B16459#32
  | 95 => 0x33B0FDEA#32
  | 96 => 0xB3B0A563#32
  | 97 => 0x33B05AA9#32
  | 98 => 0xB3B01DA5#32
  | 99 => 0x33AFEE43#32
  | 100 => 0xB3AFCC75#32
  | 101 => 0x33AFB831#32
  | 102 => 0xB3AFB170#32
  | 103 => 0x33AFB831#32
  | 104 => 0xB3AFCC75#32
  | 105 => 0x33AFEE43#32
  | 106 => 0xB3B01DA5#32
  | 107 => 0x33B05AA9#32
  | 108 => 0xB3B0A563#32
  | 109 => 0x33B0FDEA#32
  | 110 => 0xB3B16459#32
  | 111 => 0x33B1D8CF#32
  | 112 => 0xB3B25B72#32
  | 113 => 0x33B2EC6A#32
  | 114 => 0xB3B38BE5#32
  | 115 => 0x33B43A15#32
  | 116 => 0xB3B4F732#32
  | 117 => 0x33B5C377#32
  | 118 => 0xB3B69F28#32
  | 119 => 0x33B78A8A#32
  | 120 => 0xB3B885EC#32
  | 121 => 0x33B9919E#32
  | 122 => 0xB3BAADFB#32
  | 123 => 0x33BBDB61#32
  | 124 => 0xB3BD1A36#32
  | 125 => 0x33BE6AE7#32
  | 126 => 0xB3BFCDE6#32
  | 127 => 0x33C143B0#32
  | _ => 0#32

noncomputable abbrev lit0t0_461 (i : Nat) : BitVec 32 := match i % 128 with
  | 0 => 0xB3C2CCC7#32
  | 1 => 0x33C469B8#32
  | 2 => 0xB3C61B15#32
  | 3 => 0x33C7E17D#32
  | 4 => 0xB3C9BD97#32
  | 5 => 0x33CBB015#32
  | 6 => 0xB3CDB9B1#32
  | 7 => 0x33CFDB34#32
  | 8 => 0xB3D21572#32
  | 9 => 0x33D4694B#32
  | 10 => 0xB3D6D7AE#32
  | 11 => 0x33D96196#32
  | 12 => 0xB3DC0810#32
  | 13 => 0x33DECC38#32
  | 14 => 0xB3E1AF3D#32
  | 15 => 0x33E4B25D#32
  | 16 => 0xB3E7D6EF#32
  | 17 => 0x33EB1E5A#32
  | 18 => 0xB3EE8A1F#32
  | 19 => 0x33F21BD6#32
  | 20 => 0xB3F5D532#32
  | 21 => 0x33F9B800#32
  | 22 => 0xB3FDC62E#32
  | 23 => 0x340100E3#32
  | 24 => 0xB403367C#32
  | 25 => 0x3405850C#32
  | 26 => 0xB407EDD1#32
  | 27 => 0x340A721F#32
  | 28 => 0xB40D1360#32
  | 29 => 0x340FD31A#32
  | 30 => 0xB412B2ED#32
  | 31 => 0x3415B495#32
  | 32 => 0xB418D9F0#32
  | 33 => 0x341C2500#32
  | 34 => 0xB41F97EA#32
  | 35 => 0x342334FF#32
  | 36 => 0xB426FEBD#32
  | 37 => 0x342AF7D2#32
  | 38 => 0xB42F2322#32
  | 39 => 0x343383CC#32
  | 40 => 0xB4381D32#32
  | 41 => 0x343CF2FA#32
  | 42 => 0xB4420919#32
  | 43 => 0x344763DA#32
  | 44 => 0xB44D07E6#32
  | 45 => 0x3452FA51#32
  | 46 => 0xB45940A1#32
  | 47 => 0x345FE0DA#32
  | 48 => 0xB466E193#32
  | 49 => 0x346E49FF#32
  | 50 => 0xB4762200#32
  | 51 => 0x347E723F#32
  | 52 => 0xB483A221#32
  | 53 => 0x34885142#32
  | 54 => 0xB48D4C4D#32
  | 55 => 0x349299A5#32
  | 56 => 0xB4984061#32
  | 57 => 0x349E485F#32
  | 58 => 0xB4A4BA5F#32
  | 59 => 0x34ABA023#32
  | 60 => 0xB4B30492#32
  | 61 => 0x34BAF3E5#32
  | 62 => 0xB4C37BD6#32
  | 63 => 0x34CCABDA#32
  | 64 => 0xB4D69568#32
  | 65 => 0x34E14C49#32
  | 66 => 0xB4ECE6F7#32
  | 67 => 0x34F97F13#32
  | 68 => 0xB50398F7#32
  | 69 => 0x350B1097#32
  | 70 => 0xB51339CD#32
  | 71 => 0x351C2B08#32
  | 72 => 0xB525FE56#32
  | 73 => 0x3530D21D#32
  | 74 => 0xB53CCA00#32
  | 75 => 0x354A0FF9#32
  | 76 => 0xB558D5BB#32
  | 77 => 0x35695670#32
  | 78 => 0xB57BD8F1#32
  | 79 => 0x3588594C#32
  | 80 => 0xB5942572#32
  | 81 => 0x35A19018#32
  | 82 => 0xB5B0E6EF#32
  | 83 => 0x35C28A3B#32
  | 84 => 0xB5D6F23A#32
  | 85 => 0x35EEB658#32
  | 86 => 0xB6054B76#32
  | 87 => 0x3615C529#32
  | 88 => 0xB6296767#32
  | 89 => 0x3641014B#32
  | 90 => 0xB65DA20C#32
  | 91 => 0x368056F2#32
  | 92 => 0xB695FBC4#32
  | 93 => 0x36B0ED61#32
  | 94 => 0xB6D29E9B#32
  | 95 => 0x36FFBDB2#32
  | 96 => 0xB692EE32#32
  | 97 => 0x391EBB1A#32
  | 98 => 0x3B12D0DF#32
  | 99 => 0x3CA0086D#32
  | 100 => 0x3DBAD58B#32
  | 101 => 0x3E6BB748#32
  | 102 => 0x3EA069FE#32
  | 103 => 0x3E6BB748#32
  | 104 => 0x3DBAD58B#32
  | 105 => 0x3CA0086D#32
  | 106 => 0x3B12D0DF#32
  | 107 => 0x391EBB1A#32
  | 108 => 0xB692EE32#32
  | 109 => 0x36FFBDB2#32
  | 110 => 0xB6D29E9B#32
  | 111 => 0x36B0ED61#32
  | 112 => 0xB695FBC4#32
  | 113 => 0x368056F2#32
  | 114 => 0xB65DA20C#32
  | 115 => 0x3641014B#32
  | 116 => 0xB6296767#32
  | 117 => 0x3615C529#32
  | 118 => 0xB6054B76#32
  | 119 => 0x35EEB658#32
  | 120 => 0xB5D6F23A#32
  | 121 => 0x35C28A3B#32
  | 122 => 0xB5B0E6EF#32
  | 123 => 0x35A19018#32
  | 124 => 0xB5942572#32
  | 125 => 0x3588594C#32
  | 126 => 0xB57BD8F1#32
  | 127 => 0x35695670#32
  | _ => 0#32

noncomputable abbrev lit0t0_462 (i : Nat) : BitVec 32 := match i % 128 with
  | 0 => 0x35695670#32
  | 1 => 0xB558D5BB#32
  | 2 => 0x354A0FF9#32
  | 3 => 0xB53CCA00#32
  | 4 => 0x3530D21D#32
  | 5 => 0xB525FE56#32
  | 6 => 0x351C2B08#32
  | 7 => 0xB51339CD#32
  | 8 => 0x350B1097#32
  | 9 => 0xB50398F7#32
  | 10 => 0x34F97F13#32
  | 11 => 0xB4ECE6F7#32
  | 12 => 0x34E14C49#32
  | 13 => 0xB4D69568#32
  | 14 => 0x34CCABDA#32
  | 15 => 0xB4C37BD6#32
  | 16 => 0x34BAF3E5#32
  | 17 => 0xB4B30492#32
  | 18 => 0x34ABA023#32
  | 19 => 0xB4A4BA5F#32
  | 20 => 0x349E485F#32
  | 21 => 0xB4984061#32
  | 22 => 0x349299A5#32
  | 23 => 0xB48D4C4D#32
  | 24 => 0x34885143#32
  | 25 => 0xB483A221#32
  | 26 => 0x347E723F#32
  | 27 => 0xB4762200#32
  | 28 => 0x346E49FF#32
  | 29 => 0xB466E193#32
  | 30 => 0x345FE0DA#32
  | 31 => 0xB45940A1#32
  | 32 => 0x3452FA51#32
  | 33 => 0xB44D07E6#32
  | 34 => 0x344763DA#32
  | 35 => 0xB4420919#32
  | 36 => 0x343CF2FA#32
  | 37 => 0xB4381D32#32
  | 38 => 0x343383CC#32
  | 39 => 0xB42F2322#32
  | 40 => 0x342AF7D2#32
  | 41 => 0xB426FEBD#32
  | 42 => 0x342334FF#32
  | 43 => 0xB41F97EA#32
  | 44 => 0x341C2500#32
  | 45 => 0xB418D9F0#32
  | 46 => 0x3415B495#32
  | 47 => 0xB412B2ED#32
  | 48 => 0x340FD31A#32
  | 49 => 0xB40D1360#32
  | 50 => 0x340A721F#32
  | 51 => 0xB407EDD1#32
  | 52 => 0x3405850C#32
  | 53 => 0xB403367C#32
  | 54 => 0x340100E3#32
  | 55 => 0xB3FDC62E#32
  | 56 => 0x33F9B800#32
  | 57 => 0xB3F5D532#32
  | 58 => 0x33F21BD6#32
  | 59 => 0xB3EE8A1F#32
  | 60 => 0x33EB1E5A#32
  | 61 => 0xB3E7D6EF#32
  | 62 => 0x33E4B25D#32
  | 63 => 0xB3E1AF3D#32
  | 64 => 0x33DECC38#32
  | 65 => 0xB3DC0810#32
  | 66 => 0x33D96196#32
  | 67 => 0xB3D6D7AE#32
  | 68 => 0x33D4694B#32
  | 69 => 0xB3D21572#32
  | 70 => 0x33CFDB34#32
  | 71 => 0xB3CDB9B1#32
  | 72 => 0x33CBB015#32
  | 73 => 0xB3C9BD97#32
  | 74 => 0x33C7E17D#32
  | 75 => 0xB3C61B15#32
  | 76 => 0x33C469B8#32
  | 77 => 0xB3C2CCC7#32
  | 78 => 0x33C143B0#32
  | 79 => 0xB3BFCDE6#32
  | 80 => 0x33BE6AE7#32
  | 81 => 0xB3BD1A36#32
  | 82 => 0x33BBDB61#32
  | 83 => 0xB3BAADFB#32
  | 84 => 0x33B9919E#32
  | 85 => 0xB3B885EC#32
  | 86 => 0x33B78A8A#32
  | 87 => 0xB3B69F28#32
  | 88 => 0x33B5C377#32
  | 89 => 0xB3B4F732#32
  | 90 => 0x33B43A15#32
  | 91 => 0xB3B38BE5#32
  | 92 => 0x33B2EC6A#32
  | 93 => 0xB3B25B72#32
  | 94 => 0x33B1D8CF#32
  | 95 => 0xB3B16459#32
  | 96 => 0x33B0FDEA#32
  | 97 => 0xB3B0A563#32
  | 98 => 0x33B05AA9#32
  | 99 => 0xB3B01DA5#32
  | 100 => 0x33AFEE43#32
  | 101 => 0xB3AFCC75#32
  | 102 => 0x33AFB831#32
  | 103 => 0xB3AFB170#32
  | 104 => 0x33AFB831#32
  | 105 => 0xB3AFCC75#32
  | 106 => 0x33AFEE43#32
  | 107 => 0xB3B01DA5#32
  | 108 => 0x33B05AA9#32
  | 109 => 0xB3B0A563#32
  | 110 => 0x33B0FDEA#32
  | 111 => 0xB3B16459#32
  | 112 => 0x33B1D8CF#32
  | 113 => 0xB3B25B72#32
  | 114 => 0x33B2EC6A#32
  | 115 => 0xB3B38BE5#32
  | 116 => 0x33B43A15#32
  | 117 => 0xB3B4F732#32
  | 118 => 0x33B5C377#32
  | 119 => 0xB3B69F28#32
  | 120 => 0x33B78A8A#32
  | 121 => 0xB3B885EC#32
  | 122 => 0x33B9919E#32
  | 123 => 0xB3BAADFB#32
  | 124 => 0x33BBDB61#32
  | 125 => 0xB3BD1A36#32
  | 126 => 0x33BE6AE7#32
  | 127 => 0xB3BFCDE6#32
  | _ => 0#32

noncomputable abbrev lit0t0_463 (i : Nat) : BitVec 32 := match i % 128 with
  | 0 => 0x33C143B0#32
  | 1 => 0xB3C2CCC7#32
  | 2 => 0x33C469B8#32
  | 3 => 0xB3C61B15#32
  | 4 => 0x33C7E17D#32
  | 5 => 0xB3C9BD97#32
  | 6 => 0x33CBB015#32
  | 7 => 0xB3CDB9B1#32
  | 8 => 0x33CFDB34#32
  | 9 => 0xB3D21572#32
  | 10 => 0x33D4694B#32
  | 11 => 0xB3D6D7AE#32
  | 12 => 0x33D96196#32
  | 13 => 0xB3DC0810#32
  | 14 => 0x33DECC38#32
  | 15 => 0xB3E1AF3D#32
  | 16 => 0x33E4B25D#32
  | 17 => 0xB3E7D6EF#32
  | 18 => 0x33EB1E5A#32
  | 19 => 0xB3EE8A1F#32
  | 20 => 0x33F21BD6#32
  | 21 => 0xB3F5D532#32
  | 22 => 0x33F9B800#32
  | 23 => 0xB3FDC62E#32
  | 24 => 0x340100E3#32
  | 25 => 0xB403367C#32
  | 26 => 0x3405850C#32
  | 27 => 0xB407EDD1#32
  | 28 => 0x340A721F#32
  | 29 => 0xB40D1360#32
  | 30 => 0x340FD31A#32
  | 31 => 0xB412B2ED#32
  | 32 => 0x3415B495#32
  | 33 => 0xB418D9F0#32
  | 34 => 0x341C2500#32
  | 35 => 0xB41F97EA#32
  | 36 => 0x342334FF#32
  | 37 => 0xB426FEBD#32
  | 38 => 0x342AF7D2#32
  | 39 => 0xB42F2322#32
  | 40 => 0x343383CC#32
  | 41 => 0xB4381D32#32
  | 42 => 0x343CF2FA#32
  | 43 => 0xB4420919#32
  | 44 => 0x344763DA#32
  | 45 => 0xB44D07E6#32
  | 46 => 0x3452FA51#32
  | 47 => 0xB45940A1#32
  | 48 => 0x345FE0DA#32
  | 49 => 0xB466E193#32
  | 50 => 0x346E49FF#32
  | 51 => 0xB4762200#32
  | 52 => 0x347E723F#32
  | 53 => 0xB483A221#32
  | 54 => 0x34885142#32
  | 55 => 0xB48D4C4D#32
  | 56 => 0x349299A5#32
  | 57 => 0xB4984061#32
  | 58 => 0x349E485F#32
  | 59 => 0xB4A4BA5F#32
  | 60 => 0x34ABA023#32
  | 61 => 0xB4B30492#32
  | 62 => 0x34BAF3E5#32
  | 63 => 0xB4C37BD6#32
  | 64 => 0x34CCABDA#32
  | 65 => 0xB4D69568#32
  | 66 => 0x34E14C49#32
  | 67 => 0xB4ECE6F7#32
  | 68 => 0x34F97F13#32
  | 69 => 0xB50398F7#32
  | 70 => 0x350B1097#32
  | 71 => 0xB51339CD#32
  | 72 => 0x351C2B08#32
  | 73 => 0xB525FE56#32
  | 74 => 0x3530D21D#32
  | 75 => 0xB53CCA00#32
  | 76 => 0x354A0FF9#32
  | 77 => 0xB558D5BB#32
  | 78 => 0x35695670#32
  | 79 => 0xB57BD8F1#32
  | 80 => 0x3588594C#32
  | 81 => 0xB5942572#32
  | 82 => 0x35A19018#32
  | 83 => 0xB5B0E6EF#32
  | 84 => 0x35C28A3B#32
  | 85 => 0xB5D6F23A#32
  | 86 => 0x35EEB658#32
  | 87 => 0xB6054B76#32
  | 88 => 0x3615C529#32
  | 89 => 0xB6296767#32
  | 90 => 0x3641014B#32
  | 91 => 0xB65DA20C#32
  | 92 => 0x368056F2#32
  | 93 => 0xB695FBC4#32
  | 94 => 0x36B0ED61#32
  | 95 => 0xB6D29E9B#32
  | 96 => 0x36FFBDB2#32
  | 97 => 0xB692EE32#32
  | 98 => 0x391EBB1A#32
  | 99 => 0x3B12D0DF#32
  | 100 => 0x3CA0086D#32
  | 101 => 0x3DBAD58B#32
  | 102 => 0x3E6BB748#32
  | 103 => 0x3EA069FE#32
  | 104 => 0x3E6BB748#32
  | 105 => 0x3DBAD58B#32
  | 106 => 0x3CA0086D#32
  | 107 => 0x3B12D0DF#32
  | 108 => 0x391EBB1A#32
  | 109 => 0xB692EE32#32
  | 110 => 0x36FFBDB2#32
  | 111 => 0xB6D29E9B#32
  | 112 => 0x36B0ED61#32
  | 113 => 0xB695FBC4#32
  | 114 => 0x368056F2#32
  | 115 => 0xB65DA20C#32
  | 116 => 0x3641014B#32
  | 117 => 0xB6296767#32
  | 118 => 0x3615C529#32
  | 119 => 0xB6054B76#32
  | 120 => 0x35EEB658#32
  | 121 => 0xB5D6F23A#32
  | 122 => 0x35C28A3B#32
  | 123 => 0xB5B0E6EF#32
  | 124 => 0x35A19018#32
  | 125 => 0xB5942572#32
  | 126 => 0x3588594C#32
  | 127 => 0xB57BD8F1#32
  | _ => 0#32

noncomputable abbrev lit0t0_464 (i : Nat) : BitVec 32 := match i % 128 with
  | 0 => 0xB57BD8F1#32
  | 1 => 0x35695670#32
  | 2 => 0xB558D5BB#32
  | 3 => 0x354A0FF9#32
  | 4 => 0xB53CCA00#32
  | 5 => 0x3530D21D#32
  | 6 => 0xB525FE56#32
  | 7 => 0x351C2B08#32
  | 8 => 0xB51339CD#32
  | 9 => 0x350B1097#32
  | 10 => 0xB50398F7#32
  | 11 => 0x34F97F13#32
  | 12 => 0xB4ECE6F7#32
  | 13 => 0x34E14C49#32
  | 14 => 0xB4D69568#32
  | 15 => 0x34CCABDA#32
  | 16 => 0xB4C37BD6#32
  | 17 => 0x34BAF3E5#32
  | 18 => 0xB4B30492#32
  | 19 => 0x34ABA023#32
  | 20 => 0xB4A4BA5F#32
  | 21 => 0x349E485F#32
  | 22 => 0xB4984061#32
  | 23 => 0x349299A5#32
  | 24 => 0xB48D4C4D#32
  | 25 => 0x34885142#32
  | 26 => 0xB483A221#32
  | 27 => 0x347E723F#32
  | 28 => 0xB4762200#32
  | 29 => 0x346E49FF#32
  | 30 => 0xB466E193#32
  | 31 => 0x345FE0DA#32
  | 32 => 0xB45940A1#32
  | 33 => 0x3452FA51#32
  | 34 => 0xB44D07E6#32
  | 35 => 0x344763DA#32
  | 36 => 0xB4420919#32
  | 37 => 0x343CF2FA#32
  | 38 => 0xB4381D32#32
  | 39 => 0x343383CC#32
  | 40 => 0xB42F2322#32
  | 41 => 0x342AF7D2#32
  | 42 => 0xB426FEBD#32
  | 43 => 0x342334FF#32
  | 44 => 0xB41F97EA#32
  | 45 => 0x341C2500#32
  | 46 => 0xB418D9F0#32
  | 47 => 0x3415B495#32
  | 48 => 0xB412B2ED#32
  | 49 => 0x340FD31A#32
  | 50 => 0xB40D1360#32
  | 51 => 0x340A721F#32
  | 52 => 0xB407EDD1#32
  | 53 => 0x3405850C#32
  | 54 => 0xB403367C#32
  | 55 => 0x340100E3#32
  | 56 => 0xB3FDC62E#32
  | 57 => 0x33F9B800#32
  | 58 => 0xB3F5D532#32
  | 59 => 0x33F21BD6#32
  | 60 => 0xB3EE8A1F#32
  | 61 => 0x33EB1E5A#32
  | 62 => 0xB3E7D6EF#32
  | 63 => 0x33E4B25D#32
  | 64 => 0xB3E1AF3D#32
  | 65 => 0x33DECC38#32
  | 66 => 0xB3DC0810#32
  | 67 => 0x33D96196#32
  | 68 => 0xB3D6D7AE#32
  | 69 => 0x33D4694B#32
  | 70 => 0xB3D21572#32
  | 71 => 0x33CFDB34#32
  | 72 => 0xB3CDB9B1#32
  | 73 => 0x33CBB015#32
  | 74 => 0xB3C9BD97#32
  | 75 => 0x33C7E17D#32
  | 76 => 0xB3C61B15#32
  | 77 => 0x33C469B8#32
  | 78 => 0xB3C2CCC7#32
  | 79 => 0x33C143B0#32
  | 80 => 0xB3BFCDE6#32
  | 81 => 0x33BE6AE7#32
  | 82 => 0xB3BD1A36#32
  | 83 => 0x33BBDB61#32
  | 84 => 0xB3BAADFB#32
  | 85 => 0x33B9919E#32
  | 86 => 0xB3B885EC#32
  | 87 => 0x33B78A8A#32
  | 88 => 0xB3B69F28#32
  | 89 => 0x33B5C377#32
  | 90 => 0xB3B4F732#32
  | 91 => 0x33B43A15#32
  | 92 => 0xB3B38BE5#32
  | 93 => 0x33B2EC6A#32
  | 94 => 0xB3B25B72#32
  | 95 => 0x33B1D8CF#32
  | 96 => 0xB3B16459#32
  | 97 => 0x33B0FDEA#32
  | 98 => 0xB3B0A563#32
  | 99 => 0x33B05AA9#32
  | 100 => 0xB3B01DA5#32
  | 101 => 0x33AFEE43#32
  | 102 => 0xB3AFCC75#32
  | 103 => 0x33AFB831#32
  | 104 => 0xB3AFB170#32
  | 105 => 0x33AFB831#32
  | 106 => 0xB3AFCC75#32
  | 107 => 0x33AFEE43#32
  | 108 => 0xB3B01DA5#32
  | 109 => 0x33B05AA9#32
  | 110 => 0xB3B0A563#32
  | 111 => 0x33B0FDEA#32
  | 112 => 0xB3B16459#32
  | 113 => 0x33B1D8CF#32
  | 114 => 0xB3B25B72#32
  | 115 => 0x33B2EC6A#32
  | 116 => 0xB3B38BE5#32
  | 117 => 0x33B43A15#32
  | 118 => 0xB3B4F732#32
  | 119 => 0x33B5C377#32
  | 120 => 0xB3B69F28#32
  | 121 => 0x33B78A8A#32
  | 122 => 0xB3B885EC#32
  | 123 => 0x33B9919E#32
  | 124 => 0xB3BAADFB#32
  | 125 => 0x33BBDB61#32
  | 126 => 0xB3BD1A36#32
  | 127 => 0x33BE6AE7#32
  | _ => 0#32

noncomputable abbrev lit0t0_465 (i : Nat) : BitVec 32 := match i % 128 with
  | 0 => 0xB3BFCDE6#32
  | 1 => 0x33C143B0#32
  | 2 => 0xB3C2CCC7#32
  | 3 => 0x33C469B8#32
  | 4 => 0xB3C61B15#32
  | 5 => 0x33C7E17D#32
  | 6 => 0xB3C9BD97#32
  | 7 => 0x33CBB015#32
  | 8 => 0xB3CDB9B1#32
  | 9 => 0x33CFDB34#32
  | 10 => 0xB3D21572#32
  | 11 => 0x33D4694B#32
  | 12 => 0xB3D6D7AE#32
  | 13 => 0x33D96196#32
  | 14 => 0xB3DC0810#32
  | 15 => 0x33DECC38#32
  | 16 => 0xB3E1AF3D#32
  | 17 => 0x33E4B25D#32
  | 18 => 0xB3E7D6EF#32
  | 19 => 0x33EB1E5A#32
  | 20 => 0xB3EE8A1F#32
  | 21 => 0x33F21BD6#32
  | 22 => 0xB3F5D532#32
  | 23 => 0x33F9B800#32
  | 24 => 0xB3FDC62E#32
  | 25 => 0x340100E3#32
  | 26 => 0xB403367C#32
  | 27 => 0x3405850C#32
  | 28 => 0xB407EDD1#32
  | 29 => 0x340A721F#32
  | 30 => 0xB40D1360#32
  | 31 => 0x340FD31A#32
  | 32 => 0xB412B2ED#32
  | 33 => 0x3415B495#32
  | 34 => 0xB418D9F0#32
  | 35 => 0x341C2500#32
  | 36 => 0xB41F97EA#32
  | 37 => 0x342334FF#32
  | 38 => 0xB426FEBD#32
  | 39 => 0x342AF7D2#32
  | 40 => 0xB42F2322#32
  | 41 => 0x343383CC#32
  | 42 => 0xB4381D32#32
  | 43 => 0x343CF2FA#32
  | 44 => 0xB4420919#32
  | 45 => 0x344763DA#32
  | 46 => 0xB44D07E6#32
  | 47 => 0x3452FA51#32
  | 48 => 0xB45940A1#32
  | 49 => 0x345FE0DA#32
  | 50 => 0xB466E193#32
  | 51 => 0x346E49FF#32
  | 52 => 0xB4762200#32
  | 53 => 0x347E723F#32
  | 54 => 0xB483A221#32
  | 55 => 0x34885143#32
  | 56 => 0xB48D4C4D#32
  | 57 => 0x349299A5#32
  | 58 => 0xB4984061#32
  | 59 => 0x349E485F#32
  | 60 => 0xB4A4BA5F#32
  | 61 => 0x34ABA023#32
  | 62 => 0xB4B30492#32
  | 63 => 0x34BAF3E5#32
  | 64 => 0xB4C37BD6#32
  | 65 => 0x34CCABDA#32
  | 66 => 0xB4D69568#32
  | 67 => 0x34E14C49#32
  | 68 => 0xB4ECE6F7#32
  | 69 => 0x34F97F13#32
  | 70 => 0xB50398F7#32
  | 71 => 0x350B1097#32
  | 72 => 0xB51339CD#32
  | 73 => 0x351C2B08#32
  | 74 => 0xB525FE56#32
  | 75 => 0x3530D21D#32
  | 76 => 0xB53CCA00#32
  | 77 => 0x354A0FF9#32
  | 78 => 0xB558D5BB#32
  | 79 => 0x35695670#32
  | 80 => 0xB57BD8F1#32
  | 81 => 0x3588594C#32
  | 82 => 0xB5942572#32
  | 83 => 0x35A19018#32
  | 84 => 0xB5B0E6EF#32
  | 85 => 0x35C28A3B#32
  | 86 => 0xB5D6F23A#32
  | 87 => 0x35EEB658#32
  | 88 => 0xB6054B76#32
  | 89 => 0x3615C529#32
  | 90 => 0xB6296767#32
  | 91 => 0x3641014B#32
  | 92 => 0xB65DA20C#32
  | 93 => 0x368056F2#32
  | 94 => 0xB695FBC4#32
  | 95 => 0x36B0ED61#32
  | 96 => 0xB6D29E9B#32
  | 97 => 0x36FFBDB2#32
  | 98 => 0xB692EE32#32
  | 99 => 0x391EBB1A#32
  | 100 => 0x3B12D0DF#32
  | 101 => 0x3CA0086D#32
  | 102 => 0x3DBAD58B#32
  | 103 => 0x3E6BB748#32
  | 104 => 0x3EA069FE#32
  | 105 => 0x3E6BB748#32
  | 106 => 0x3DBAD58B#32
  | 107 => 0x3CA0086D#32
  | 108 => 0x3B12D0DF#32
  | 109 => 0x391EBB1A#32
  | 110 => 0xB692EE32#32
  | 111 => 0x36FFBDB2#32
  | 112 => 0xB6D29E9B#32
  | 113 => 0x36B0ED61#32
  | 114 => 0xB695FBC4#32
  | 115 => 0x368056F2#32
  | 116 => 0xB65DA20C#32
  | 117 => 0x3641014B#32
  | 118 => 0xB6296767#32
  | 119 => 0x3615C529#32
  | 120 => 0xB6054B76#32
  | 121 => 0x35EEB658#32
  | 122 => 0xB5D6F23A#32
  | 123 => 0x35C28A3B#32
  | 124 => 0xB5B0E6EF#32
  | 125 => 0x35A19018#32
  | 126 => 0xB5942572#32
  | 127 => 0x3588594C#32
  | _ => 0#32

noncomputable abbrev lit0t0_466 (i : Nat) : BitVec 32 := match i % 128 with
  | 0 => 0x3588594C#32
  | 1 => 0xB57BD8F1#32
  | 2 => 0x35695670#32
  | 3 => 0xB558D5BB#32
  | 4 => 0x354A0FF9#32
  | 5 => 0xB53CCA00#32
  | 6 => 0x3530D21D#32
  | 7 => 0xB525FE56#32
  | 8 => 0x351C2B08#32
  | 9 => 0xB51339CD#32
  | 10 => 0x350B1097#32
  | 11 => 0xB50398F7#32
  | 12 => 0x34F97F13#32
  | 13 => 0xB4ECE6F7#32
  | 14 => 0x34E14C49#32
  | 15 => 0xB4D69568#32
  | 16 => 0x34CCABDA#32
  | 17 => 0xB4C37BD6#32
  | 18 => 0x34BAF3E5#32
  | 19 => 0xB4B30492#32
  | 20 => 0x34ABA023#32
  | 21 => 0xB4A4BA5F#32
  | 22 => 0x349E485F#32
  | 23 => 0xB4984061#32
  | 24 => 0x349299A5#32
  | 25 => 0xB48D4C4D#32
  | 26 => 0x34885143#32
  | 27 => 0xB483A221#32
  | 28 => 0x347E723F#32
  | 29 => 0xB4762200#32
  | 30 => 0x346E49FF#32
  | 31 => 0xB466E193#32
  | 32 => 0x345FE0DA#32
  | 33 => 0xB45940A1#32
  | 34 => 0x3452FA51#32
  | 35 => 0xB44D07E6#32
  | 36 => 0x344763DA#32
  | 37 => 0xB4420919#32
  | 38 => 0x343CF2FA#32
  | 39 => 0xB4381D32#32
  | 40 => 0x343383CC#32
  | 41 => 0xB42F2322#32
  | 42 => 0x342AF7D2#32
  | 43 => 0xB426FEBD#32
  | 44 => 0x342334FF#32
  | 45 => 0xB41F97EA#32
  | 46 => 0x341C2500#32
  | 47 => 0xB418D9F0#32
  | 48 => 0x3415B495#32
  | 49 => 0xB412B2ED#32
  | 50 => 0x340FD31A#32
  | 51 => 0xB40D1360#32
  | 52 => 0x340A721F#32
  | 53 => 0xB407EDD1#32
  | 54 => 0x3405850C#32
  | 55 => 0xB403367C#32
  | 56 => 0x340100E3#32
  | 57 => 0xB3FDC62E#32
  | 58 => 0x33F9B800#32
  | 59 => 0xB3F5D532#32
  | 60 => 0x33F21BD6#32
  | 61 => 0xB3EE8A1F#32
  | 62 => 0x33EB1E5A#32
  | 63 => 0xB3E7D6EF#32
  | 64 => 0x33E4B25D#32
  | 65 => 0xB3E1AF3D#32
  | 66 => 0x33DECC38#32
  | 67 => 0xB3DC0810#32
  | 68 => 0x33D96196#32
  | 69 => 0xB3D6D7AE#32
  | 70 => 0x33D4694B#32
  | 71 => 0xB3D21572#32
  | 72 => 0x33CFDB34#32
  | 73 => 0xB3CDB9B1#32
  | 74 => 0x33CBB015#32
  | 75 => 0xB3C9BD97#32
  | 76 => 0x33C7E17D#32
  | 77 => 0xB3C61B15#32
  | 78 => 0x33C469B8#32
  | 79 => 0xB3C2CCC7#32
  | 80 => 0x33C143B0#32
  | 81 => 0xB3BFCDE6#32
  | 82 => 0x33BE6AE7#32
  | 83 => 0xB3BD1A36#32
  | 84 => 0x33BBDB61#32
  | 85 => 0xB3BAADFB#32
  | 86 => 0x33B9919E#32
  | 87 => 0xB3B885EC#32
  | 88 => 0x33B78A8A#32
  | 89 => 0xB3B69F28#32
  | 90 => 0x33B5C377#32
  | 91 => 0xB3B4F732#32
  | 92 => 0x33B43A15#32
  | 93 => 0xB3B38BE5#32
  | 94 => 0x33B2EC6A#32
  | 95 => 0xB3B25B72#32
  | 96 => 0x33B1D8CF#32
  | 97 => 0xB3B16459#32
  | 98 => 0x33B0FDEA#32
  | 99 => 0xB3B0A563#32
  | 100 => 0x33B05AA9#32
  | 101 => 0xB3B01DA5#32
  | 102 => 0x33AFEE43#32
  | 103 => 0xB3AFCC75#32
  | 104 => 0x33AFB831#32
  | 105 => 0xB3AFB170#32
  | 106 => 0x33AFB831#32
  | 107 => 0xB3AFCC75#32
  | 108 => 0x33AFEE43#32
  | 109 => 0xB3B01DA5#32
  | 110 => 0x33B05AA9#32
  | 111 => 0xB3B0A563#32
  | 112 => 0x33B0FDEA#32
  | 113 => 0xB3B16459#32
  | 114 => 0x33B1D8CF#32
  | 115 => 0xB3B25B72#32
  | 116 => 0x33B2EC6A#32
  | 117 => 0xB3B38BE5#32
  | 118 => 0x33B43A15#32
  | 119 => 0xB3B4F732#32
  | 120 => 0x33B5C377#32
  | 121 => 0xB3B69F28#32
  | 122 => 0x33B78A8A#32
  | 123 => 0xB3B885EC#32
  | 124 => 0x33B9919E#32
  | 125 => 0xB3BAADFB#32
  | 126 => 0x33BBDB61#32
  | 127 => 0xB3BD1A36#32
  | _ => 0#32

noncomputable abbrev lit0t0_467 (i : Nat) : BitVec 32 := match i % 128 with
  | 0 => 0x33BE6AE7#32
  | 1 => 0xB3BFCDE6#32
  | 2 => 0x33C143B0#32
  | 3 => 0xB3C2CCC7#32
  | 4 => 0x33C469B8#32
  | 5 => 0xB3C61B15#32
  | 6 => 0x33C7E17D#32
  | 7 => 0xB3C9BD97#32
  | 8 => 0x33CBB015#32
  | 9 => 0xB3CDB9B1#32
  | 10 => 0x33CFDB34#32
  | 11 => 0xB3D21572#32
  | 12 => 0x33D4694B#32
  | 13 => 0xB3D6D7AE#32
  | 14 => 0x33D96196#32
  | 15 => 0xB3DC0810#32
  | 16 => 0x33DECC38#32
  | 17 => 0xB3E1AF3D#32
  | 18 => 0x33E4B25D#32
  | 19 => 0xB3E7D6EF#32
  | 20 => 0x33EB1E5A#32
  | 21 => 0xB3EE8A1F#32
  | 22 => 0x33F21BD6#32
  | 23 => 0xB3F5D532#32
  | 24 => 0x33F9B800#32
  | 25 => 0xB3FDC62E#32
  | 26 => 0x340100E3#32
  | 27 => 0xB403367C#32
  | 28 => 0x3405850C#32
  | 29 => 0xB407EDD1#32
  | 30 => 0x340A721F#32
  | 31 => 0xB40D1360#32
  | 32 => 0x340FD31A#32
  | 33 => 0xB412B2ED#32
  | 34 => 0x3415B495#32
  | 35 => 0xB418D9F0#32
  | 36 => 0x341C2500#32
  | 37 => 0xB41F97EA#32
  | 38 => 0x342334FF#32
  | 39 => 0xB426FEBD#32
  | 40 => 0x342AF7D2#32
  | 41 => 0xB42F2322#32
  | 42 => 0x343383CC#32
  | 43 => 0xB4381D32#32
  | 44 => 0x343CF2FA#32
  | 45 => 0xB4420919#32
  | 46 => 0x344763DA#32
  | 47 => 0xB44D07E6#32
  | 48 => 0x3452FA51#32
  | 49 => 0xB45940A1#32
  | 50 => 0x345FE0DA#32
  | 51 => 0xB466E193#32
  | 52 => 0x346E49FF#32
  | 53 => 0xB4762200#32
  | 54 => 0x347E723F#32
  | 55 => 0xB483A221#32
  | 56 => 0x34885143#32
  | 57 => 0xB48D4C4D#32
  | 58 => 0x349299A5#32
  | 59 => 0xB4984061#32
  | 60 => 0x349E485F#32
  | 61 => 0xB4A4BA5F#32
  | 62 => 0x34ABA023#32
  | 63 => 0xB4B30492#32
  | 64 => 0x34BAF3E5#32
  | 65 => 0xB4C37BD6#32
  | 66 => 0x34CCABDA#32
  | 67 => 0xB4D69568#32
  | 68 => 0x34E14C49#32
  | 69 => 0xB4ECE6F7#32
  | 70 => 0x34F97F13#32
  | 71 => 0xB50398F7#32
  | 72 => 0x350B1097#32
  | 73 => 0xB51339CD#32
  | 74 => 0x351C2B08#32
  | 75 => 0xB525FE56#32
  | 76 => 0x3530D21D#32
  | 77 => 0xB53CCA00#32
  | 78 => 0x354A0FF9#32
  | 79 => 0xB558D5BB#32
  | 80 => 0x35695670#32
  | 81 => 0xB57BD8F1#32
  | 82 => 0x3588594C#32
  | 83 => 0xB5942572#32
  | 84 => 0x35A19018#32
  | 85 => 0xB5B0E6EF#32
  | 86 => 0x35C28A3B#32
  | 87 => 0xB5D6F23A#32
  | 88 => 0x35EEB658#32
  | 89 => 0xB6054B76#32
  | 90 => 0x3615C529#32
  | 91 => 0xB6296767#32
  | 92 => 0x3641014B#32
  | 93 => 0xB65DA20C#32
  | 94 => 0x368056F2#32
  | 95 => 0xB695FBC4#32
  | 96 => 0x36B0ED61#32
  | 97 => 0xB6D29E9B#32
  | 98 => 0x36FFBDB2#32
  | 99 => 0xB692EE32#32
  | 100 => 0x391EBB1A#32
  | 101 => 0x3B12D0DF#32
  | 102 => 0x3CA0086D#32
  | 103 => 0x3DBAD58B#32
  | 104 => 0x3E6BB748#32
  | 105 => 0x3EA069FE#32
  | 106 => 0x3E6BB748#32
  | 107 => 0x3DBAD58B#32
  | 108 => 0x3CA0086D#32
  | 109 => 0x3B12D0DF#32
  | 110 => 0x391EBB1A#32
  | 111 => 0xB692EE32#32
  | 112 => 0x36FFBDB2#32
  | 113 => 0xB6D29E9B#32
  | 114 => 0x36B0ED61#32
  | 115 => 0xB695FBC4#32
  | 116 => 0x368056F2#32
  | 117 => 0xB65DA20C#32
  | 118 => 0x3641014B#32
  | 119 => 0xB6296767#32
  | 120 => 0x3615C529#32
  | 121 => 0xB6054B76#32
  | 122 => 0x35EEB658#32
  | 123 => 0xB5D6F23A#32
  | 124 => 0x35C28A3B#32
  | 125 => 0xB5B0E6EF#32
  | 126 => 0x35A19018#32
  | 127 => 0xB5942572#32
  | _ => 0#32

noncomputable abbrev lit0t0_468 (i : Nat) : BitVec 32 := match i % 128 with
  | 0 => 0xB5942572#32
  | 1 => 0x3588594C#32
  | 2 => 0xB57BD8F1#32
  | 3 => 0x35695670#32
  | 4 => 0xB558D5BB#32
  | 5 => 0x354A0FF9#32
  | 6 => 0xB53CCA00#32
  | 7 => 0x3530D21D#32
  | 8 => 0xB525FE56#32
  | 9 => 0x351C2B08#32
  | 10 => 0xB51339CD#32
  | 11 => 0x350B1097#32
  | 12 => 0xB50398F7#32
  | 13 => 0x34F97F13#32
  | 14 => 0xB4ECE6F7#32
  | 15 => 0x34E14C49#32
  | 16 => 0xB4D69568#32
  | 17 => 0x34CCABDA#32
  | 18 => 0xB4C37BD6#32
  | 19 => 0x34BAF3E5#32
  | 20 => 0xB4B30492#32
  | 21 => 0x34ABA023#32
  | 22 => 0xB4A4BA5F#32
  | 23 => 0x349E485F#32
  | 24 => 0xB4984061#32
  | 25 => 0x349299A5#32
  | 26 => 0xB48D4C4D#32
  | 27 => 0x34885143#32
  | 28 => 0xB483A221#32
  | 29 => 0x347E723F#32
  | 30 => 0xB4762200#32
  | 31 => 0x346E49FF#32
  | 32 => 0xB466E193#32
  | 33 => 0x345FE0DA#32
  | 34 => 0xB45940A1#32
  | 35 => 0x3452FA51#32
  | 36 => 0xB44D07E6#32
  | 37 => 0x344763DA#32
  | 38 => 0xB4420919#32
  | 39 => 0x343CF2FA#32
  | 40 => 0xB4381D32#32
  | 41 => 0x343383CC#32
  | 42 => 0xB42F2322#32
  | 43 => 0x342AF7D2#32
  | 44 => 0xB426FEBD#32
  | 45 => 0x342334FF#32
  | 46 => 0xB41F97EA#32
  | 47 => 0x341C2500#32
  | 48 => 0xB418D9F0#32
  | 49 => 0x3415B495#32
  | 50 => 0xB412B2ED#32
  | 51 => 0x340FD31A#32
  | 52 => 0xB40D1360#32
  | 53 => 0x340A721F#32
  | 54 => 0xB407EDD1#32
  | 55 => 0x3405850C#32
  | 56 => 0xB403367C#32
  | 57 => 0x340100E3#32
  | 58 => 0xB3FDC62E#32
  | 59 => 0x33F9B800#32
  | 60 => 0xB3F5D532#32
  | 61 => 0x33F21BD6#32
  | 62 => 0xB3EE8A1F#32
  | 63 => 0x33EB1E5A#32
  | 64 => 0xB3E7D6EF#32
  | 65 => 0x33E4B25D#32
  | 66 => 0xB3E1AF3D#32
  | 67 => 0x33DECC38#32
  | 68 => 0xB3DC0810#32
  | 69 => 0x33D96196#32
  | 70 => 0xB3D6D7AE#32
  | 71 => 0x33D4694B#32
  | 72 => 0xB3D21572#32
  | 73 => 0x33CFDB34#32
  | 74 => 0xB3CDB9B1#32
  | 75 => 0x33CBB015#32
  | 76 => 0xB3C9BD97#32
  | 77 => 0x33C7E17D#32
  | 78 => 0xB3C61B15#32
  | 79 => 0x33C469B8#32
  | 80 => 0xB3C2CCC7#32
  | 81 => 0x33C143B0#32
  | 82 => 0xB3BFCDE6#32
  | 83 => 0x33BE6AE7#32
  | 84 => 0xB3BD1A36#32
  | 85 => 0x33BBDB61#32
  | 86 => 0xB3BAADFB#32
  | 87 => 0x33B9919E#32
  | 88 => 0xB3B885EC#32
  | 89 => 0x33B78A8A#32
  | 90 => 0xB3B69F28#32
  | 91 => 0x33B5C377#32
  | 92 => 0xB3B4F732#32
  | 93 => 0x33B43A15#32
  | 94 => 0xB3B38BE5#32
  | 95 => 0x33B2EC6A#32
  | 96 => 0xB3B25B72#32
  | 97 => 0x33B1D8CF#32
  | 98 => 0xB3B16459#32
  | 99 => 0x33B0FDEA#32
  | 100 => 0xB3B0A563#32
  | 101 => 0x33B05AA9#32
  | 102 => 0xB3B01DA5#32
  | 103 => 0x33AFEE43#32
  | 104 => 0xB3AFCC75#32
  | 105 => 0x33AFB831#32
  | 106 => 0xB3AFB170#32
  | 107 => 0x33AFB831#32
  | 108 => 0xB3AFCC75#32
  | 109 => 0x33AFEE43#32
  | 110 => 0xB3B01DA5#32
  | 111 => 0x33B05AA9#32
  | 112 => 0xB3B0A563#32
  | 113 => 0x33B0FDEA#32
  | 114 => 0xB3B16459#32
  | 115 => 0x33B1D8CF#32
  | 116 => 0xB3B25B72#32
  | 117 => 0x33B2EC6A#32
  | 118 => 0xB3B38BE5#32
  | 119 => 0x33B43A15#32
  | 120 => 0xB3B4F732#32
  | 121 => 0x33B5C377#32
  | 122 => 0xB3B69F28#32
  | 123 => 0x33B78A8A#32
  | 124 => 0xB3B885EC#32
  | 125 => 0x33B9919E#32
  | 126 => 0xB3BAADFB#32
  | 127 => 0x33BBDB61#32
  | _ => 0#32

noncomputable abbrev lit0t0_469 (i : Nat) : BitVec 32 := match i % 128 with
  | 0 => 0xB3BD1A36#32
  | 1 => 0x33BE6AE7#32
  | 2 => 0xB3BFCDE6#32
  | 3 => 0x33C143B0#32
  | 4 => 0xB3C2CCC7#32
  | 5 => 0x33C469B8#32
  | 6 => 0xB3C61B15#32
  | 7 => 0x33C7E17D#32
  | 8 => 0xB3C9BD97#32
  | 9 => 0x33CBB015#32
  | 10 => 0xB3CDB9B1#32
  | 11 => 0x33CFDB34#32
  | 12 => 0xB3D21572#32
  | 13 => 0x33D4694B#32
  | 14 => 0xB3D6D7AE#32
  | 15 => 0x33D96196#32
  | 16 => 0xB3DC0810#32
  | 17 => 0x33DECC38#32
  | 18 => 0xB3E1AF3D#32
  | 19 => 0x33E4B25D#32
  | 20 => 0xB3E7D6EF#32
  | 21 => 0x33EB1E5A#32
  | 22 => 0xB3EE8A1F#32
  | 23 => 0x33F21BD6#32
  | 24 => 0xB3F5D532#32
  | 25 => 0x33F9B800#32
  | 26 => 0xB3FDC62E#32
  | 27 => 0x340100E3#32
  | 28 => 0xB403367C#32
  | 29 => 0x3405850C#32
  | 30 => 0xB407EDD1#32
  | 31 => 0x340A721F#32
  | 32 => 0xB40D1360#32
  | 33 => 0x340FD31A#32
  | 34 => 0xB412B2ED#32
  | 35 => 0x3415B495#32
  | 36 => 0xB418D9F0#32
  | 37 => 0x341C2500#32
  | 38 => 0xB41F97EA#32
  | 39 => 0x342334FF#32
  | 40 => 0xB426FEBD#32
  | 41 => 0x342AF7D2#32
  | 42 => 0xB42F2322#32
  | 43 => 0x343383CC#32
  | 44 => 0xB4381D32#32
  | 45 => 0x343CF2FA#32
  | 46 => 0xB4420919#32
  | 47 => 0x344763DA#32
  | 48 => 0xB44D07E6#32
  | 49 => 0x3452FA51#32
  | 50 => 0xB45940A1#32
  | 51 => 0x345FE0DA#32
  | 52 => 0xB466E193#32
  | 53 => 0x346E49FF#32
  | 54 => 0xB4762200#32
  | 55 => 0x347E723F#32
  | 56 => 0xB483A221#32
  | 57 => 0x34885143#32
  | 58 => 0xB48D4C4D#32
  | 59 => 0x349299A5#32
  | 60 => 0xB4984061#32
  | 61 => 0x349E485F#32
  | 62 => 0xB4A4BA5F#32
  | 63 => 0x34ABA023#32
  | 64 => 0xB4B30492#32
  | 65 => 0x34BAF3E5#32
  | 66 => 0xB4C37BD6#32
  | 67 => 0x34CCABDA#32
  | 68 => 0xB4D69568#32
  | 69 => 0x34E14C49#32
  | 70 => 0xB4ECE6F7#32
  | 71 => 0x34F97F13#32
  | 72 => 0xB50398F7#32
  | 73 => 0x350B1097#32
  | 74 => 0xB51339CD#32
  | 75 => 0x351C2B08#32
  | 76 => 0xB525FE56#32
  | 77 => 0x3530D21D#32
  | 78 => 0xB53CCA00#32
  | 79 => 0x354A0FF9#32
  | 80 => 0xB558D5BB#32
  | 81 => 0x35695670#32
  | 82 => 0xB57BD8F1#32
  | 83 => 0x3588594C#32
  | 84 => 0xB5942572#32
  | 85 => 0x35A19018#32
  | 86 => 0xB5B0E6EF#32
  | 87 => 0x35C28A3B#32
  | 88 => 0xB5D6F23A#32
  | 89 => 0x35EEB658#32
  | 90 => 0xB6054B76#32
  | 91 => 0x3615C529#32
  | 92 => 0xB6296767#32
  | 93 => 0x3641014B#32
  | 94 => 0xB65DA20C#32
  | 95 => 0x368056F2#32
  | 96 => 0xB695FBC4#32
  | 97 => 0x36B0ED61#32
  | 98 => 0xB6D29E9B#32
  | 99 => 0x36FFBDB2#32
  | 100 => 0xB692EE32#32
  | 101 => 0x391EBB1A#32
  | 102 => 0x3B12D0DF#32
  | 103 => 0x3CA0086D#32
  | 104 => 0x3DBAD58B#32
  | 105 => 0x3E6BB748#32
  | 106 => 0x3EA069FE#32
  | 107 => 0x3E6BB748#32
  | 108 => 0x3DBAD58B#32
  | 109 => 0x3CA0086D#32
  | 110 => 0x3B12D0DF#32
  | 111 => 0x391EBB1A#32
  | 112 => 0xB692EE32#32
  | 113 => 0x36FFBDB2#32
  | 114 => 0xB6D29E9B#32
  | 115 => 0x36B0ED61#32
  | 116 => 0xB695FBC4#32
  | 117 => 0x368056F2#32
  | 118 => 0xB65DA20C#32
  | 119 => 0x3641014B#32
  | 120 => 0xB6296767#32
  | 121 => 0x3615C529#32
  | 122 => 0xB6054B76#32
  | 123 => 0x35EEB658#32
  | 124 => 0xB5D6F23A#32
  | 125 => 0x35C28A3B#32
  | 126 => 0xB5B0E6EF#32
  | 127 => 0x35A19018#32
  | _ => 0#32

noncomputable abbrev lit0t0_470 (i : Nat) : BitVec 32 := match i % 128 with
  | 0 => 0x35A19018#32
  | 1 => 0xB5942572#32
  | 2 => 0x3588594C#32
  | 3 => 0xB57BD8F1#32
  | 4 => 0x35695670#32
  | 5 => 0xB558D5BB#32
  | 6 => 0x354A0FF9#32
  | 7 => 0xB53CCA00#32
  | 8 => 0x3530D21D#32
  | 9 => 0xB525FE56#32
  | 10 => 0x351C2B08#32
  | 11 => 0xB51339CD#32
  | 12 => 0x350B1097#32
  | 13 => 0xB50398F7#32
  | 14 => 0x34F97F13#32
  | 15 => 0xB4ECE6F7#32
  | 16 => 0x34E14C49#32
  | 17 => 0xB4D69568#32
  | 18 => 0x34CCABDA#32
  | 19 => 0xB4C37BD6#32
  | 20 => 0x34BAF3E5#32
  | 21 => 0xB4B30492#32
  | 22 => 0x34ABA023#32
  | 23 => 0xB4A4BA5F#32
  | 24 => 0x349E485F#32
  | 25 => 0xB4984061#32
  | 26 => 0x349299A5#32
  | 27 => 0xB48D4C4D#32
  | 28 => 0x34885143#32
  | 29 => 0xB483A221#32
  | 30 => 0x347E723F#32
  | 31 => 0xB4762200#32
  | 32 => 0x346E49FF#32
  | 33 => 0xB466E193#32
  | 34 => 0x345FE0DA#32
  | 35 => 0xB45940A1#32
  | 36 => 0x3452FA51#32
  | 37 => 0xB44D07E6#32
  | 38 => 0x344763DA#32
  | 39 => 0xB4420919#32
  | 40 => 0x343CF2FA#32
  | 41 => 0xB4381D32#32
  | 42 => 0x343383CC#32
  | 43 => 0xB42F2322#32
  | 44 => 0x342AF7D2#32
  | 45 => 0xB426FEBD#32
  | 46 => 0x342334FF#32
  | 47 => 0xB41F97EA#32
  | 48 => 0x341C2500#32
  | 49 => 0xB418D9F0#32
  | 50 => 0x3415B495#32
  | 51 => 0xB412B2ED#32
  | 52 => 0x340FD31A#32
  | 53 => 0xB40D1360#32
  | 54 => 0x340A721F#32
  | 55 => 0xB407EDD1#32
  | 56 => 0x3405850C#32
  | 57 => 0xB403367C#32
  | 58 => 0x340100E3#32
  | 59 => 0xB3FDC62E#32
  | 60 => 0x33F9B800#32
  | 61 => 0xB3F5D532#32
  | 62 => 0x33F21BD6#32
  | 63 => 0xB3EE8A1F#32
  | 64 => 0x33EB1E5A#32
  | 65 => 0xB3E7D6EF#32
  | 66 => 0x33E4B25D#32
  | 67 => 0xB3E1AF3D#32
  | 68 => 0x33DECC38#32
  | 69 => 0xB3DC0810#32
  | 70 => 0x33D96196#32
  | 71 => 0xB3D6D7AE#32
  | 72 => 0x33D4694B#32
  | 73 => 0xB3D21572#32
  | 74 => 0x33CFDB34#32
  | 75 => 0xB3CDB9B1#32
  | 76 => 0x33CBB015#32
  | 77 => 0xB3C9BD97#32
  | 78 => 0x33C7E17D#32
  | 79 => 0xB3C61B15#32
  | 80 => 0x33C469B8#32
  | 81 => 0xB3C2CCC7#32
  | 82 => 0x33C143B0#32
  | 83 => 0xB3BFCDE6#32
  | 84 => 0x33BE6AE7#32
  | 85 => 0xB3BD1A36#32
  | 86 => 0x33BBDB61#32
  | 87 => 0xB3BAADFB#32
  | 88 => 0x33B9919E#32
  | 89 => 0xB3B885EC#32
  | 90 => 0x33B78A8A#32
  | 91 => 0xB3B69F28#32
  | 92 => 0x33B5C377#32
  | 93 => 0xB3B4F732#32
  | 94 => 0x33B43A15#32
  | 95 => 0xB3B38BE5#32
  | 96 => 0x33B2EC6A#32
  | 97 => 0xB3B25B72#32
  | 98 => 0x33B1D8CF#32
  | 99 => 0xB3B16459#32
  | 100 => 0x33B0FDEA#32
  | 101 => 0xB3B0A563#32
  | 102 => 0x33B05AA9#32
  | 103 => 0xB3B01DA5#32
  | 104 => 0x33AFEE43#32
  | 105 => 0xB3AFCC75#32
  | 106 => 0x33AFB831#32
  | 107 => 0xB3AFB170#32
  | 108 => 0x33AFB831#32
  | 109 => 0xB3AFCC75#32
  | 110 => 0x33AFEE43#32
  | 111 => 0xB3B01DA5#32
  | 112 => 0x33B05AA9#32
  | 113 => 0xB3B0A563#32
  | 114 => 0x33B0FDEA#32
  | 115 => 0xB3B16459#32
  | 116 => 0x33B1D8CF#32
  | 117 => 0xB3B25B72#32
  | 118 => 0x33B2EC6A#32
  | 119 => 0xB3B38BE5#32
  | 120 => 0x33B43A15#32
  | 121 => 0xB3B4F732#32
  | 122 => 0x33B5C377#32
  | 123 => 0xB3B69F28#32
  | 124 => 0x33B78A8A#32
  | 125 => 0xB3B885EC#32
  | 126 => 0x33B9919E#32
  | 127 => 0xB3BAADFB#32
  | _ => 0#32

noncomputable abbrev lit0t0_471 (i : Nat) : BitVec 32 := match i % 128 with
  | 0 => 0x33BBDB61#32
  | 1 => 0xB3BD1A36#32
  | 2 => 0x33BE6AE7#32
  | 3 => 0xB3BFCDE6#32
  | 4 => 0x33C143B0#32
  | 5 => 0xB3C2CCC7#32
  | 6 => 0x33C469B8#32
  | 7 => 0xB3C61B15#32
  | 8 => 0x33C7E17D#32
  | 9 => 0xB3C9BD97#32
  | 10 => 0x33CBB015#32
  | 11 => 0xB3CDB9B1#32
  | 12 => 0x33CFDB34#32
  | 13 => 0xB3D21572#32
  | 14 => 0x33D4694B#32
  | 15 => 0xB3D6D7AE#32
  | 16 => 0x33D96196#32
  | 17 => 0xB3DC0810#32
  | 18 => 0x33DECC38#32
  | 19 => 0xB3E1AF3D#32
  | 20 => 0x33E4B25D#32
  | 21 => 0xB3E7D6EF#32
  | 22 => 0x33EB1E5A#32
  | 23 => 0xB3EE8A1F#32
  | 24 => 0x33F21BD6#32
  | 25 => 0xB3F5D532#32
  | 26 => 0x33F9B800#32
  | 27 => 0xB3FDC62E#32
  | 28 => 0x340100E3#32
  | 29 => 0xB403367C#32
  | 30 => 0x3405850C#32
  | 31 => 0xB407EDD1#32
  | 32 => 0x340A721F#32
  | 33 => 0xB40D1360#32
  | 34 => 0x340FD31A#32
  | 35 => 0xB412B2ED#32
  | 36 => 0x3415B495#32
  | 37 => 0xB418D9F0#32
  | 38 => 0x341C2500#32
  | 39 => 0xB41F97EA#32
  | 40 => 0x342334FF#32
  | 41 => 0xB426FEBD#32
  | 42 => 0x342AF7D2#32
  | 43 => 0xB42F2322#32
  | 44 => 0x343383CC#32
  | 45 => 0xB4381D32#32
  | 46 => 0x343CF2FA#32
  | 47 => 0xB4420919#32
  | 48 => 0x344763DA#32
  | 49 => 0xB44D07E6#32
  | 50 => 0x3452FA51#32
  | 51 => 0xB45940A1#32
  | 52 => 0x345FE0DA#32
  | 53 => 0xB466E193#32
  | 54 => 0x346E49FF#32
  | 55 => 0xB4762200#32
  | 56 => 0x347E723F#32
  | 57 => 0xB483A221#32
  | 58 => 0x34885143#32
  | 59 => 0xB48D4C4D#32
  | 60 => 0x349299A5#32
  | 61 => 0xB4984061#32
  | 62 => 0x349E485F#32
  | 63 => 0xB4A4BA5F#32
  | 64 => 0x34ABA023#32
  | 65 => 0xB4B30492#32
  | 66 => 0x34BAF3E5#32
  | 67 => 0xB4C37BD6#32
  | 68 => 0x34CCABDA#32
  | 69 => 0xB4D69568#32
  | 70 => 0x34E14C49#32
  | 71 => 0xB4ECE6F7#32
  | 72 => 0x34F97F13#32
  | 73 => 0xB50398F7#32
  | 74 => 0x350B1097#32
  | 75 => 0xB51339CD#32
  | 76 => 0x351C2B08#32
  | 77 => 0xB525FE56#32
  | 78 => 0x3530D21D#32
  | 79 => 0xB53CCA00#32
  | 80 => 0x354A0FF9#32
  | 81 => 0xB558D5BB#32
  | 82 => 0x35695670#32
  | 83 => 0xB57BD8F1#32
  | 84 => 0x3588594C#32
  | 85 => 0xB5942572#32
  | 86 => 0x35A19018#32
  | 87 => 0xB5B0E6EF#32
  | 88 => 0x35C28A3B#32
  | 89 => 0xB5D6F23A#32
  | 90 => 0x35EEB658#32
  | 91 => 0xB6054B76#32
  | 92 => 0x3615C529#32
  | 93 => 0xB6296767#32
  | 94 => 0x3641014B#32
  | 95 => 0xB65DA20C#32
  | 96 => 0x368056F2#32
  | 97 => 0xB695FBC4#32
  | 98 => 0x36B0ED61#32
  | 99 => 0xB6D29E9B#32
  | 100 => 0x36FFBDB2#32
  | 101 => 0xB692EE32#32
  | 102 => 0x391EBB1A#32
  | 103 => 0x3B12D0DF#32
  | 104 => 0x3CA0086D#32
  | 105 => 0x3DBAD58B#32
  | 106 => 0x3E6BB748#32
  | 107 => 0x3EA069FE#32
  | 108 => 0x3E6BB748#32
  | 109 => 0x3DBAD58B#32
  | 110 => 0x3CA0086D#32
  | 111 => 0x3B12D0DF#32
  | 112 => 0x391EBB1A#32
  | 113 => 0xB692EE32#32
  | 114 => 0x36FFBDB2#32
  | 115 => 0xB6D29E9B#32
  | 116 => 0x36B0ED61#32
  | 117 => 0xB695FBC4#32
  | 118 => 0x368056F2#32
  | 119 => 0xB65DA20C#32
  | 120 => 0x3641014B#32
  | 121 => 0xB6296767#32
  | 122 => 0x3615C529#32
  | 123 => 0xB6054B76#32
  | 124 => 0x35EEB658#32
  | 125 => 0xB5D6F23A#32
  | 126 => 0x35C28A3B#32
  | 127 => 0xB5B0E6EF#32
  | _ => 0#32

noncomputable abbrev lit0t0_472 (i : Nat) : BitVec 32 := match i % 128 with
  | 0 => 0xB5B0E6EF#32
  | 1 => 0x35A19018#32
  | 2 => 0xB5942572#32
  | 3 => 0x3588594C#32
  | 4 => 0xB57BD8F1#32
  | 5 => 0x35695670#32
  | 6 => 0xB558D5BB#32
  | 7 => 0x354A0FF9#32
  | 8 => 0xB53CCA00#32
  | 9 => 0x3530D21D#32
  | 10 => 0xB525FE56#32
  | 11 => 0x351C2B08#32
  | 12 => 0xB51339CD#32
  | 13 => 0x350B1097#32
  | 14 => 0xB50398F7#32
  | 15 => 0x34F97F13#32
  | 16 => 0xB4ECE6F7#32
  | 17 => 0x34E14C49#32
  | 18 => 0xB4D69568#32
  | 19 => 0x34CCABDA#32
  | 20 => 0xB4C37BD6#32
  | 21 => 0x34BAF3E5#32
  | 22 => 0xB4B30492#32
  | 23 => 0x34ABA023#32
  | 24 => 0xB4A4BA5F#32
  | 25 => 0x349E485F#32
  | 26 => 0xB4984061#32
  | 27 => 0x349299A5#32
  | 28 => 0xB48D4C4D#32
  | 29 => 0x34885142#32
  | 30 => 0xB483A221#32
  | 31 => 0x347E723F#32
  | 32 => 0xB4762200#32
  | 33 => 0x346E49FF#32
  | 34 => 0xB466E193#32
  | 35 => 0x345FE0DA#32
  | 36 => 0xB45940A1#32
  | 37 => 0x3452FA51#32
  | 38 => 0xB44D07E6#32
  | 39 => 0x344763DA#32
  | 40 => 0xB4420919#32
  | 41 => 0x343CF2FA#32
  | 42 => 0xB4381D32#32
  | 43 => 0x343383CC#32
  | 44 => 0xB42F2322#32
  | 45 => 0x342AF7D2#32
  | 46 => 0xB426FEBD#32
  | 47 => 0x342334FF#32
  | 48 => 0xB41F97EA#32
  | 49 => 0x341C2500#32
  | 50 => 0xB418D9F0#32
  | 51 => 0x3415B495#32
  | 52 => 0xB412B2ED#32
  | 53 => 0x340FD31A#32
  | 54 => 0xB40D1360#32
  | 55 => 0x340A721F#32
  | 56 => 0xB407EDD1#32
  | 57 => 0x3405850C#32
  | 58 => 0xB403367C#32
  | 59 => 0x340100E3#32
  | 60 => 0xB3FDC62E#32
  | 61 => 0x33F9B800#32
  | 62 => 0xB3F5D532#32
  | 63 => 0x33F21BD6#32
  | 64 => 0xB3EE8A1F#32
  | 65 => 0x33EB1E5A#32
  | 66 => 0xB3E7D6EF#32
  | 67 => 0x33E4B25D#32
  | 68 => 0xB3E1AF3D#32
  | 69 => 0x33DECC38#32
  | 70 => 0xB3DC0810#32
  | 71 => 0x33D96196#32
  | 72 => 0xB3D6D7AE#32
  | 73 => 0x33D4694B#32
  | 74 => 0xB3D21572#32
  | 75 => 0x33CFDB34#32
  | 76 => 0xB3CDB9B1#32
  | 77 => 0x33CBB015#32
  | 78 => 0xB3C9BD97#32
  | 79 => 0x33C7E17D#32
  | 80 => 0xB3C61B15#32
  | 81 => 0x33C469B8#32
  | 82 => 0xB3C2CCC7#32
  | 83 => 0x33C143B0#32
  | 84 => 0xB3BFCDE6#32
  | 85 => 0x33BE6AE7#32
  | 86 => 0xB3BD1A36#32
  | 87 => 0x33BBDB61#32
  | 88 => 0xB3BAADFB#32
  | 89 => 0x33B9919E#32
  | 90 => 0xB3B885EC#32
  | 91 => 0x33B78A8A#32
  | 92 => 0xB3B69F28#32
  | 93 => 0x33B5C377#32
  | 94 => 0xB3B4F732#32
  | 95 => 0x33B43A15#32
  | 96 => 0xB3B38BE5#32
  | 97 => 0x33B2EC6A#32
  | 98 => 0xB3B25B72#32
  | 99 => 0x33B1D8CF#32
  | 100 => 0xB3B16459#32
  | 101 => 0x33B0FDEA#32
  | 102 => 0xB3B0A563#32
  | 103 => 0x33B05AA9#32
  | 104 => 0xB3B01DA5#32
  | 105 => 0x33AFEE43#32
  | 106 => 0xB3AFCC75#32
  | 107 => 0x33AFB831#32
  | 108 => 0xB3AFB170#32
  | 109 => 0x33AFB831#32
  | 110 => 0xB3AFCC75#32
  | 111 => 0x33AFEE43#32
  | 112 => 0xB3B01DA5#32
  | 113 => 0x33B05AA9#32
  | 114 => 0xB3B0A563#32
  | 115 => 0x33B0FDEA#32
  | 116 => 0xB3B16459#32
  | 117 => 0x33B1D8CF#32
  | 118 => 0xB3B25B72#32
  | 119 => 0x33B2EC6A#32
  | 120 => 0xB3B38BE5#32
  | 121 => 0x33B43A15#32
  | 122 => 0xB3B4F732#32
  | 123 => 0x33B5C377#32
  | 124 => 0xB3B69F28#32
  | 125 => 0x33B78A8A#32
  | 126 => 0xB3B885EC#32
  | 127 => 0x33B9919E#32
  | _ => 0#32

noncomputable abbrev lit0t0_473 (i : Nat) : BitVec 32 := match i % 128 with
  | 0 => 0xB3BAADFB#32
  | 1 => 0x33BBDB61#32
  | 2 => 0xB3BD1A36#32
  | 3 => 0x33BE6AE7#32
  | 4 => 0xB3BFCDE6#32
  | 5 => 0x33C143B0#32
  | 6 => 0xB3C2CCC7#32
  | 7 => 0x33C469B8#32
  | 8 => 0xB3C61B15#32
  | 9 => 0x33C7E17D#32
  | 10 => 0xB3C9BD97#32
  | 11 => 0x33CBB015#32
  | 12 => 0xB3CDB9B1#32
  | 13 => 0x33CFDB34#32
  | 14 => 0xB3D21572#32
  | 15 => 0x33D4694B#32
  | 16 => 0xB3D6D7AE#32
  | 17 => 0x33D96196#32
  | 18 => 0xB3DC0810#32
  | 19 => 0x33DECC38#32
  | 20 => 0xB3E1AF3D#32
  | 21 => 0x33E4B25D#32
  | 22 => 0xB3E7D6EF#32
  | 23 => 0x33EB1E5A#32
  | 24 => 0xB3EE8A1F#32
  | 25 => 0x33F21BD6#32
  | 26 => 0xB3F5D532#32
  | 27 => 0x33F9B800#32
  | 28 => 0xB3FDC62E#32
  | 29 => 0x340100E3#32
  | 30 => 0xB403367C#32
  | 31 => 0x3405850C#32
  | 32 => 0xB407EDD1#32
  | 33 => 0x340A721F#32
  | 34 => 0xB40D1360#32
  | 35 => 0x340FD31A#32
  | 36 => 0xB412B2ED#32
  | 37 => 0x3415B495#32
  | 38 => 0xB418D9F0#32
  | 39 => 0x341C2500#32
  | 40 => 0xB41F97EA#32
  | 41 => 0x342334FF#32
  | 42 => 0xB426FEBD#32
  | 43 => 0x342AF7D2#32
  | 44 => 0xB42F2322#32
  | 45 => 0x343383CC#32
  | 46 => 0xB4381D32#32
  | 47 => 0x343CF2FA#32
  | 48 => 0xB4420919#32
  | 49 => 0x344763DA#32
  | 50 => 0xB44D07E6#32
  | 51 => 0x3452FA51#32
  | 52 => 0xB45940A1#32
  | 53 => 0x345FE0DA#32
  | 54 => 0xB466E193#32
  | 55 => 0x346E49FF#32
  | 56 => 0xB4762200#32
  | 57 => 0x347E723F#32
  | 58 => 0xB483A221#32
  | 59 => 0x34885142#32
  | 60 => 0xB48D4C4D#32
  | 61 => 0x349299A5#32
  | 62 => 0xB4984061#32
  | 63 => 0x349E485F#32
  | 64 => 0xB4A4BA5F#32
  | 65 => 0x34ABA023#32
  | 66 => 0xB4B30492#32
  | 67 => 0x34BAF3E5#32
  | 68 => 0xB4C37BD6#32
  | 69 => 0x34CCABDA#32
  | 70 => 0xB4D69568#32
  | 71 => 0x34E14C49#32
  | 72 => 0xB4ECE6F7#32
  | 73 => 0x34F97F13#32
  | 74 => 0xB50398F7#32
  | 75 => 0x350B1097#32
  | 76 => 0xB51339CD#32
  | 77 => 0x351C2B08#32
  | 78 => 0xB525FE56#32
  | 79 => 0x3530D21D#32
  | 80 => 0xB53CCA00#32
  | 81 => 0x354A0FF9#32
  | 82 => 0xB558D5BB#32
  | 83 => 0x35695670#32
  | 84 => 0xB57BD8F1#32
  | 85 => 0x3588594C#32
  | 86 => 0xB5942572#32
  | 87 => 0x35A19018#32
  | 88 => 0xB5B0E6EF#32
  | 89 => 0x35C28A3B#32
  | 90 => 0xB5D6F23A#32
  | 91 => 0x35EEB658#32
  | 92 => 0xB6054B76#32
  | 93 => 0x3615C529#32
  | 94 => 0xB6296767#32
  | 95 => 0x3641014B#32
  | 96 => 0xB65DA20C#32
  | 97 => 0x368056F2#32
  | 98 => 0xB695FBC4#32
  | 99 => 0x36B0ED61#32
  | 100 => 0xB6D29E9B#32
  | 101 => 0x36FFBDB2#32
  | 102 => 0xB692EE32#32
  | 103 => 0x391EBB1A#32
  | 104 => 0x3B12D0DF#32
  | 105 => 0x3CA0086D#32
  | 106 => 0x3DBAD58B#32
  | 107 => 0x3E6BB748#32
  | 108 => 0x3EA069FE#32
  | 109 => 0x3E6BB748#32
  | 110 => 0x3DBAD58B#32
  | 111 => 0x3CA0086D#32
  | 112 => 0x3B12D0DF#32
  | 113 => 0x391EBB1A#32
  | 114 => 0xB692EE32#32
  | 115 => 0x36FFBDB2#32
  | 116 => 0xB6D29E9B#32
  | 117 => 0x36B0ED61#32
  | 118 => 0xB695FBC4#32
  | 119 => 0x368056F2#32
  | 120 => 0xB65DA20C#32
  | 121 => 0x3641014B#32
  | 122 => 0xB6296767#32
  | 123 => 0x3615C529#32
  | 124 => 0xB6054B76#32
  | 125 => 0x35EEB658#32
  | 126 => 0xB5D6F23A#32
  | 127 => 0x35C28A3B#32
  | _ => 0#32

noncomputable abbrev lit0t0_474 (i : Nat) : BitVec 32 := match i % 128 with
  | 0 => 0x35C28A3B#32
  | 1 => 0xB5B0E6EF#32
  | 2 => 0x35A19018#32
  | 3 => 0xB5942572#32
  | 4 => 0x3588594C#32
  | 5 => 0xB57BD8F1#32
  | 6 => 0x35695670#32
  | 7 => 0xB558D5BB#32
  | 8 => 0x354A0FF9#32
  | 9 => 0xB53CCA00#32
  | 10 => 0x3530D21D#32
  | 11 => 0xB525FE56#32
  | 12 => 0x351C2B08#32
  | 13 => 0xB51339CD#32
  | 14 => 0x350B1097#32
  | 15 => 0xB50398F7#32
  | 16 => 0x34F97F13#32
  | 17 => 0xB4ECE6F7#32
  | 18 => 0x34E14C49#32
  | 19 => 0xB4D69568#32
  | 20 => 0x34CCABDA#32
  | 21 => 0xB4C37BD6#32
  | 22 => 0x34BAF3E5#32
  | 23 => 0xB4B30492#32
  | 24 => 0x34ABA023#32
  | 25 => 0xB4A4BA5F#32
  | 26 => 0x349E485F#32
  | 27 => 0xB4984061#32
  | 28 => 0x349299A5#32
  | 29 => 0xB48D4C4D#32
  | 30 => 0x34885143#32
  | 31 => 0xB483A221#32
  | 32 => 0x347E723F#32
  | 33 => 0xB4762200#32
  | 34 => 0x346E49FF#32
  | 35 => 0xB466E193#32
  | 36 => 0x345FE0DA#32
  | 37 => 0xB45940A1#32
  | 38 => 0x3452FA51#32
  | 39 => 0xB44D07E6#32
  | 40 => 0x344763DA#32
  | 41 => 0xB4420919#32
  | 42 => 0x343CF2FA#32
  | 43 => 0xB4381D32#32
  | 44 => 0x343383CC#32
  | 45 => 0xB42F2322#32
  | 46 => 0x342AF7D2#32
  | 47 => 0xB426FEBD#32
  | 48 => 0x342334FF#32
  | 49 => 0xB41F97EA#32
  | 50 => 0x341C2500#32
  | 51 => 0xB418D9F0#32
  | 52 => 0x3415B495#32
  | 53 => 0xB412B2ED#32
  | 54 => 0x340FD31A#32
  | 55 => 0xB40D1360#32
  | 56 => 0x340A721F#32
  | 57 => 0xB407EDD1#32
  | 58 => 0x3405850C#32
  | 59 => 0xB403367C#32
  | 60 => 0x340100E3#32
  | 61 => 0xB3FDC62E#32
  | 62 => 0x33F9B800#32
  | 63 => 0xB3F5D532#32
  | 64 => 0x33F21BD6#32
  | 65 => 0xB3EE8A1F#32
  | 66 => 0x33EB1E5A#32
  | 67 => 0xB3E7D6EF#32
  | 68 => 0x33E4B25D#32
  | 69 => 0xB3E1AF3D#32
  | 70 => 0x33DECC38#32
  | 71 => 0xB3DC0810#32
  | 72 => 0x33D96196#32
  | 73 => 0xB3D6D7AE#32
  | 74 => 0x33D4694B#32
  | 75 => 0xB3D21572#32
  | 76 => 0x33CFDB34#32
  | 77 => 0xB3CDB9B1#32
  | 78 => 0x33CBB015#32
  | 79 => 0xB3C9BD97#32
  | 80 => 0x33C7E17D#32
  | 81 => 0xB3C61B15#32
  | 82 => 0x33C469B8#32
  | 83 => 0xB3C2CCC7#32
  | 84 => 0x33C143B0#32
  | 85 => 0xB3BFCDE6#32
  | 86 => 0x33BE6AE7#32
  | 87 => 0xB3BD1A36#32
  | 88 => 0x33BBDB61#32
  | 89 => 0xB3BAADFB#32
  | 90 => 0x33B9919E#32
  | 91 => 0xB3B885EC#32
  | 92 => 0x33B78A8A#32
  | 93 => 0xB3B69F28#32
  | 94 => 0x33B5C377#32
  | 95 => 0xB3B4F732#32
  | 96 => 0x33B43A15#32
  | 97 => 0xB3B38BE5#32
  | 98 => 0x33B2EC6A#32
  | 99 => 0xB3B25B72#32
  | 100 => 0x33B1D8CF#32
  | 101 => 0xB3B16459#32
  | 102 => 0x33B0FDEA#32
  | 103 => 0xB3B0A563#32
  | 104 => 0x33B05AA9#32
  | 105 => 0xB3B01DA5#32
  | 106 => 0x33AFEE43#32
  | 107 => 0xB3AFCC75#32
  | 108 => 0x33AFB831#32
  | 109 => 0xB3AFB170#32
  | 110 => 0x33AFB831#32
  | 111 => 0xB3AFCC75#32
  | 112 => 0x33AFEE43#32
  | 113 => 0xB3B01DA5#32
  | 114 => 0x33B05AA9#32
  | 115 => 0xB3B0A563#32
  | 116 => 0x33B0FDEA#32
  | 117 => 0xB3B16459#32
  | 118 => 0x33B1D8CF#32
  | 119 => 0xB3B25B72#32
  | 120 => 0x33B2EC6A#32
  | 121 => 0xB3B38BE5#32
  | 122 => 0x33B43A15#32
  | 123 => 0xB3B4F732#32
  | 124 => 0x33B5C377#32
  | 125 => 0xB3B69F28#32
  | 126 => 0x33B78A8A#32
  | 127 => 0xB3B885EC#32
  | _ => 0#32

noncomputable abbrev lit0t0_475 (i : Nat) : BitVec 32 := match i % 128 with
  | 0 => 0x33B9919E#32
  | 1 => 0xB3BAADFB#32
  | 2 => 0x33BBDB61#32
  | 3 => 0xB3BD1A36#32
  | 4 => 0x33BE6AE7#32
  | 5 => 0xB3BFCDE6#32
  | 6 => 0x33C143B0#32
  | 7 => 0xB3C2CCC7#32
  | 8 => 0x33C469B8#32
  | 9 => 0xB3C61B15#32
  | 10 => 0x33C7E17D#32
  | 11 => 0xB3C9BD97#32
  | 12 => 0x33CBB015#32
  | 13 => 0xB3CDB9B1#32
  | 14 => 0x33CFDB34#32
  | 15 => 0xB3D21572#32
  | 16 => 0x33D4694B#32
  | 17 => 0xB3D6D7AE#32
  | 18 => 0x33D96196#32
  | 19 => 0xB3DC0810#32
  | 20 => 0x33DECC38#32
  | 21 => 0xB3E1AF3D#32
  | 22 => 0x33E4B25D#32
  | 23 => 0xB3E7D6EF#32
  | 24 => 0x33EB1E5A#32
  | 25 => 0xB3EE8A1F#32
  | 26 => 0x33F21BD6#32
  | 27 => 0xB3F5D532#32
  | 28 => 0x33F9B800#32
  | 29 => 0xB3FDC62E#32
  | 30 => 0x340100E3#32
  | 31 => 0xB403367C#32
  | 32 => 0x3405850C#32
  | 33 => 0xB407EDD1#32
  | 34 => 0x340A721F#32
  | 35 => 0xB40D1360#32
  | 36 => 0x340FD31A#32
  | 37 => 0xB412B2ED#32
  | 38 => 0x3415B495#32
  | 39 => 0xB418D9F0#32
  | 40 => 0x341C2500#32
  | 41 => 0xB41F97EA#32
  | 42 => 0x342334FF#32
  | 43 => 0xB426FEBD#32
  | 44 => 0x342AF7D2#32
  | 45 => 0xB42F2322#32
  | 46 => 0x343383CC#32
  | 47 => 0xB4381D32#32
  | 48 => 0x343CF2FA#32
  | 49 => 0xB4420919#32
  | 50 => 0x344763DA#32
  | 51 => 0xB44D07E6#32
  | 52 => 0x3452FA51#32
  | 53 => 0xB45940A1#32
  | 54 => 0x345FE0DA#32
  | 55 => 0xB466E193#32
  | 56 => 0x346E49FF#32
  | 57 => 0xB4762200#32
  | 58 => 0x347E723F#32
  | 59 => 0xB483A221#32
  | 60 => 0x34885142#32
  | 61 => 0xB48D4C4D#32
  | 62 => 0x349299A5#32
  | 63 => 0xB4984061#32
  | 64 => 0x349E485F#32
  | 65 => 0xB4A4BA5F#32
  | 66 => 0x34ABA023#32
  | 67 => 0xB4B30492#32
  | 68 => 0x34BAF3E5#32
  | 69 => 0xB4C37BD6#32
  | 70 => 0x34CCABDA#32
  | 71 => 0xB4D69568#32
  | 72 => 0x34E14C49#32
  | 73 => 0xB4ECE6F7#32
  | 74 => 0x34F97F13#32
  | 75 => 0xB50398F7#32
  | 76 => 0x350B1097#32
  | 77 => 0xB51339CD#32
  | 78 => 0x351C2B08#32
  | 79 => 0xB525FE56#32
  | 80 => 0x3530D21D#32
  | 81 => 0xB53CCA00#32
  | 82 => 0x354A0FF9#32
  | 83 => 0xB558D5BB#32
  | 84 => 0x35695670#32
  | 85 => 0xB57BD8F1#32
  | 86 => 0x3588594C#32
  | 87 => 0xB5942572#32
  | 88 => 0x35A19018#32
  | 89 => 0xB5B0E6EF#32
  | 90 => 0x35C28A3B#32
  | 91 => 0xB5D6F23A#32
  | 92 => 0x35EEB658#32
  | 93 => 0xB6054B76#32
  | 94 => 0x3615C529#32
  | 95 => 0xB6296767#32
  | 96 => 0x3641014B#32
  | 97 => 0xB65DA20C#32
  | 98 => 0x368056F2#32
  | 99 => 0xB695FBC4#32
  | 100 => 0x36B0ED61#32
  | 101 => 0xB6D29E9B#32
  | 102 => 0x36FFBDB2#32
  | 103 => 0xB692EE32#32
  | 104 => 0x391EBB1A#32
  | 105 => 0x3B12D0DF#32
  | 106 => 0x3CA0086D#32
  | 107 => 0x3DBAD58B#32
  | 108 => 0x3E6BB748#32
  | 109 => 0x3EA069FE#32
  | 110 => 0x3E6BB748#32
  | 111 => 0x3DBAD58B#32
  | 112 => 0x3CA0086D#32
  | 113 => 0x3B12D0DF#32
  | 114 => 0x391EBB1A#32
  | 115 => 0xB692EE32#32
  | 116 => 0x36FFBDB2#32
  | 117 => 0xB6D29E9B#32
  | 118 => 0x36B0ED61#32
  | 119 => 0xB695FBC4#32
  | 120 => 0x368056F2#32
  | 121 => 0xB65DA20C#32
  | 122 => 0x3641014B#32
  | 123 => 0xB6296767#32
  | 124 => 0x3615C529#32
  | 125 => 0xB6054B76#32
  | 126 => 0x35EEB658#32
  | 127 => 0xB5D6F23A#32
  | _ => 0#32

noncomputable abbrev lit0t0_476 (i : Nat) : BitVec 32 := match i % 128 with
  | 0 => 0xB5D6F23A#32
  | 1 => 0x35C28A3B#32
  | 2 => 0xB5B0E6EF#32
  | 3 => 0x35A19018#32
  | 4 => 0xB5942572#32
  | 5 => 0x3588594C#32
  | 6 => 0xB57BD8F1#32
  | 7 => 0x35695670#32
  | 8 => 0xB558D5BB#32
  | 9 => 0x354A0FF9#32
  | 10 => 0xB53CCA00#32
  | 11 => 0x3530D21D#32
  | 12 => 0xB525FE56#32
  | 13 => 0x351C2B08#32
  | 14 => 0xB51339CD#32
  | 15 => 0x350B1097#32
  | 16 => 0xB50398F7#32
  | 17 => 0x34F97F13#32
  | 18 => 0xB4ECE6F7#32
  | 19 => 0x34E14C49#32
  | 20 => 0xB4D69568#32
  | 21 => 0x34CCABDA#32
  | 22 => 0xB4C37BD6#32
  | 23 => 0x34BAF3E5#32
  | 24 => 0xB4B30492#32
  | 25 => 0x34ABA023#32
  | 26 => 0xB4A4BA5F#32
  | 27 => 0x349E485F#32
  | 28 => 0xB4984061#32
  | 29 => 0x349299A5#32
  | 30 => 0xB48D4C4D#32
  | 31 => 0x34885143#32
  | 32 => 0xB483A221#32
  | 33 => 0x347E723F#32
  | 34 => 0xB4762200#32
  | 35 => 0x346E49FF#32
  | 36 => 0xB466E193#32
  | 37 => 0x345FE0DA#32
  | 38 => 0xB45940A1#32
  | 39 => 0x3452FA51#32
  | 40 => 0xB44D07E6#32
  | 41 => 0x344763DA#32
  | 42 => 0xB4420919#32
  | 43 => 0x343CF2FA#32
  | 44 => 0xB4381D32#32
  | 45 => 0x343383CC#32
  | 46 => 0xB42F2322#32
  | 47 => 0x342AF7D2#32
  | 48 => 0xB426FEBD#32
  | 49 => 0x342334FF#32
  | 50 => 0xB41F97EA#32
  | 51 => 0x341C2500#32
  | 52 => 0xB418D9F0#32
  | 53 => 0x3415B495#32
  | 54 => 0xB412B2ED#32
  | 55 => 0x340FD31A#32
  | 56 => 0xB40D1360#32
  | 57 => 0x340A721F#32
  | 58 => 0xB407EDD1#32
  | 59 => 0x3405850C#32
  | 60 => 0xB403367C#32
  | 61 => 0x340100E3#32
  | 62 => 0xB3FDC62E#32
  | 63 => 0x33F9B800#32
  | 64 => 0xB3F5D532#32
  | 65 => 0x33F21BD6#32
  | 66 => 0xB3EE8A1F#32
  | 67 => 0x33EB1E5A#32
  | 68 => 0xB3E7D6EF#32
  | 69 => 0x33E4B25D#32
  | 70 => 0xB3E1AF3D#32
  | 71 => 0x33DECC38#32
  | 72 => 0xB3DC0810#32
  | 73 => 0x33D96196#32
  | 74 => 0xB3D6D7AE#32
  | 75 => 0x33D4694B#32
  | 76 => 0xB3D21572#32
  | 77 => 0x33CFDB34#32
  | 78 => 0xB3CDB9B1#32
  | 79 => 0x33CBB015#32
  | 80 => 0xB3C9BD97#32
  | 81 => 0x33C7E17D#32
  | 82 => 0xB3C61B15#32
  | 83 => 0x33C469B8#32
  | 84 => 0xB3C2CCC7#32
  | 85 => 0x33C143B0#32
  | 86 => 0xB3BFCDE6#32
  | 87 => 0x33BE6AE7#32
  | 88 => 0xB3BD1A36#32
  | 89 => 0x33BBDB61#32
  | 90 => 0xB3BAADFB#32
  | 91 => 0x33B9919E#32
  | 92 => 0xB3B885EC#32
  | 93 => 0x33B78A8A#32
  | 94 => 0xB3B69F28#32
  | 95 => 0x33B5C377#32
  | 96 => 0xB3B4F732#32
  | 97 => 0x33B43A15#32
  | 98 => 0xB3B38BE5#32
  | 99 => 0x33B2EC6A#32
  | 100 => 0xB3B25B72#32
  | 101 => 0x33B1D8CF#32
  | 102 => 0xB3B16459#32
  | 103 => 0x33B0FDEA#32
  | 104 => 0xB3B0A563#32
  | 105 => 0x33B05AA9#32
  | 106 => 0xB3B01DA5#32
  | 107 => 0x33AFEE43#32
  | 108 => 0xB3AFCC75#32
  | 109 => 0x33AFB831#32
  | 110 => 0xB3AFB170#32
  | 111 => 0x33AFB831#32
  | 112 => 0xB3AFCC75#32
  | 113 => 0x33AFEE43#32
  | 114 => 0xB3B01DA5#32
  | 115 => 0x33B05AA9#32
  | 116 => 0xB3B0A563#32
  | 117 => 0x33B0FDEA#32
  | 118 => 0xB3B16459#32
  | 119 => 0x33B1D8CF#32
  | 120 => 0xB3B25B72#32
  | 121 => 0x33B2EC6A#32
  | 122 => 0xB3B38BE5#32
  | 123 => 0x33B43A15#32
  | 124 => 0xB3B4F732#32
  | 125 => 0x33B5C377#32
  | 126 => 0xB3B69F28#32
  | 127 => 0x33B78A8A#32
  | _ => 0#32

noncomputable abbrev lit0t0_477 (i : Nat) : BitVec 32 := match i % 128 with
  | 0 => 0xB3B885EC#32
  | 1 => 0x33B9919E#32
  | 2 => 0xB3BAADFB#32
  | 3 => 0x33BBDB61#32
  | 4 => 0xB3BD1A36#32
  | 5 => 0x33BE6AE7#32
  | 6 => 0xB3BFCDE6#32
  | 7 => 0x33C143B0#32
  | 8 => 0xB3C2CCC7#32
  | 9 => 0x33C469B8#32
  | 10 => 0xB3C61B15#32
  | 11 => 0x33C7E17D#32
  | 12 => 0xB3C9BD97#32
  | 13 => 0x33CBB015#32
  | 14 => 0xB3CDB9B1#32
  | 15 => 0x33CFDB34#32
  | 16 => 0xB3D21572#32
  | 17 => 0x33D4694B#32
  | 18 => 0xB3D6D7AE#32
  | 19 => 0x33D96196#32
  | 20 => 0xB3DC0810#32
  | 21 => 0x33DECC38#32
  | 22 => 0xB3E1AF3D#32
  | 23 => 0x33E4B25D#32
  | 24 => 0xB3E7D6EF#32
  | 25 => 0x33EB1E5A#32
  | 26 => 0xB3EE8A1F#32
  | 27 => 0x33F21BD6#32
  | 28 => 0xB3F5D532#32
  | 29 => 0x33F9B800#32
  | 30 => 0xB3FDC62E#32
  | 31 => 0x340100E3#32
  | 32 => 0xB403367C#32
  | 33 => 0x3405850C#32
  | 34 => 0xB407EDD1#32
  | 35 => 0x340A721F#32
  | 36 => 0xB40D1360#32
  | 37 => 0x340FD31A#32
  | 38 => 0xB412B2ED#32
  | 39 => 0x3415B495#32
  | 40 => 0xB418D9F0#32
  | 41 => 0x341C2500#32
  | 42 => 0xB41F97EA#32
  | 43 => 0x342334FF#32
  | 44 => 0xB426FEBD#32
  | 45 => 0x342AF7D2#32
  | 46 => 0xB42F2322#32
  | 47 => 0x343383CC#32
  | 48 => 0xB4381D32#32
  | 49 => 0x343CF2FA#32
  | 50 => 0xB4420919#32
  | 51 => 0x344763DA#32
  | 52 => 0xB44D07E6#32
  | 53 => 0x3452FA51#32
  | 54 => 0xB45940A1#32
  | 55 => 0x345FE0DA#32
  | 56 => 0xB466E193#32
  | 57 => 0x346E49FF#32
  | 58 => 0xB4762200#32
  | 59 => 0x347E723F#32
  | 60 => 0xB483A221#32
  | 61 => 0x34885142#32
  | 62 => 0xB48D4C4D#32
  | 63 => 0x349299A5#32
  | 64 => 0xB4984061#32
  | 65 => 0x349E485F#32
  | 66 => 0xB4A4BA5F#32
  | 67 => 0x34ABA023#32
  | 68 => 0xB4B30492#32
  | 69 => 0x34BAF3E5#32
  | 70 => 0xB4C37BD6#32
  | 71 => 0x34CCABDA#32
  | 72 => 0xB4D69568#32
  | 73 => 0x34E14C49#32
  | 74 => 0xB4ECE6F7#32
  | 75 => 0x34F97F13#32
  | 76 => 0xB50398F7#32
  | 77 => 0x350B1097#32
  | 78 => 0xB51339CD#32
  | 79 => 0x351C2B08#32
  | 80 => 0xB525FE56#32
  | 81 => 0x3530D21D#32
  | 82 => 0xB53CCA00#32
  | 83 => 0x354A0FF9#32
  | 84 => 0xB558D5BB#32
  | 85 => 0x35695670#32
  | 86 => 0xB57BD8F1#32
  | 87 => 0x3588594C#32
  | 88 => 0xB5942572#32
  | 89 => 0x35A19018#32
  | 90 => 0xB5B0E6EF#32
  | 91 => 0x35C28A3B#32
  | 92 => 0xB5D6F23A#32
  | 93 => 0x35EEB658#32
  | 94 => 0xB6054B76#32
  | 95 => 0x3615C529#32
  | 96 => 0xB6296767#32
  | 97 => 0x3641014B#32
  | 98 => 0xB65DA20C#32
  | 99 => 0x368056F2#32
  | 100 => 0xB695FBC4#32
  | 101 => 0x36B0ED61#32
  | 102 => 0xB6D29E9B#32
  | 103 => 0x36FFBDB2#32
  | 104 => 0xB692EE32#32
  | 105 => 0x391EBB1A#32
  | 106 => 0x3B12D0DF#32
  | 107 => 0x3CA0086D#32
  | 108 => 0x3DBAD58B#32
  | 109 => 0x3E6BB748#32
  | 110 => 0x3EA069FE#32
  | 111 => 0x3E6BB748#32
  | 112 => 0x3DBAD58B#32
  | 113 => 0x3CA0086D#32
  | 114 => 0x3B12D0DF#32
  | 115 => 0x391EBB1A#32
  | 116 => 0xB692EE32#32
  | 117 => 0x36FFBDB2#32
  | 118 => 0xB6D29E9B#32
  | 119 => 0x36B0ED61#32
  | 120 => 0xB695FBC4#32
  | 121 => 0x368056F2#32
  | 122 => 0xB65DA20C#32
  | 123 => 0x3641014B#32
  | 124 => 0xB6296767#32
  | 125 => 0x3615C529#32
  | 126 => 0xB6054B76#32
  | 127 => 0x35EEB658#32
  | _ => 0#32

noncomputable abbrev lit0t0_478 (i : Nat) : BitVec 32 := match i % 128 with
  | 0 => 0x35EEB658#32
  | 1 => 0xB5D6F23A#32
  | 2 => 0x35C28A3B#32
  | 3 => 0xB5B0E6EF#32
  | 4 => 0x35A19018#32
  | 5 => 0xB5942572#32
  | 6 => 0x3588594C#32
  | 7 => 0xB57BD8F1#32
  | 8 => 0x35695670#32
  | 9 => 0xB558D5BB#32
  | 10 => 0x354A0FF9#32
  | 11 => 0xB53CCA00#32
  | 12 => 0x3530D21D#32
  | 13 => 0xB525FE56#32
  | 14 => 0x351C2B08#32
  | 15 => 0xB51339CD#32
  | 16 => 0x350B1097#32
  | 17 => 0xB50398F7#32
  | 18 => 0x34F97F13#32
  | 19 => 0xB4ECE6F7#32
  | 20 => 0x34E14C49#32
  | 21 => 0xB4D69568#32
  | 22 => 0x34CCABDA#32
  | 23 => 0xB4C37BD6#32
  | 24 => 0x34BAF3E5#32
  | 25 => 0xB4B30492#32
  | 26 => 0x34ABA023#32
  | 27 => 0xB4A4BA5F#32
  | 28 => 0x349E485F#32
  | 29 => 0xB4984061#32
  | 30 => 0x349299A5#32
  | 31 => 0xB48D4C4D#32
  | 32 => 0x34885143#32
  | 33 => 0xB483A221#32
  | 34 => 0x347E723F#32
  | 35 => 0xB4762200#32
  | 36 => 0x346E49FF#32
  | 37 => 0xB466E193#32
  | 38 => 0x345FE0DA#32
  | 39 => 0xB45940A1#32
  | 40 => 0x3452FA51#32
  | 41 => 0xB44D07E6#32
  | 42 => 0x344763DA#32
  | 43 => 0xB4420919#32
  | 44 => 0x343CF2FA#32
  | 45 => 0xB4381D32#32
  | 46 => 0x343383CC#32
  | 47 => 0xB42F2322#32
  | 48 => 0x342AF7D2#32
  | 49 => 0xB426FEBD#32
  | 50 => 0x342334FF#32
  | 51 => 0xB41F97EA#32
  | 52 => 0x341C2500#32
  | 53 => 0xB418D9F0#32
  | 54 => 0x3415B495#32
  | 55 => 0xB412B2ED#32
  | 56 => 0x340FD31A#32
  | 57 => 0xB40D1360#32
  | 58 => 0x340A721F#32
  | 59 => 0xB407EDD1#32
  | 60 => 0x3405850C#32
  | 61 => 0xB403367C#32
  | 62 => 0x340100E3#32
  | 63 => 0xB3FDC62E#32
  | 64 => 0x33F9B800#32
  | 65 => 0xB3F5D532#32
  | 66 => 0x33F21BD6#32
  | 67 => 0xB3EE8A1F#32
  | 68 => 0x33EB1E5A#32
  | 69 => 0xB3E7D6EF#32
  | 70 => 0x33E4B25D#32
  | 71 => 0xB3E1AF3D#32
  | 72 => 0x33DECC38#32
  | 73 => 0xB3DC0810#32
  | 74 => 0x33D96196#32
  | 75 => 0xB3D6D7AE#32
  | 76 => 0x33D4694B#32
  | 77 => 0xB3D21572#32
  | 78 => 0x33CFDB34#32
  | 79 => 0xB3CDB9B1#32
  | 80 => 0x33CBB015#32
  | 81 => 0xB3C9BD97#32
  | 82 => 0x33C7E17D#32
  | 83 => 0xB3C61B15#32
  | 84 => 0x33C469B8#32
  | 85 => 0xB3C2CCC7#32
  | 86 => 0x33C143B0#32
  | 87 => 0xB3BFCDE6#32
  | 88 => 0x33BE6AE7#32
  | 89 => 0xB3BD1A36#32
  | 90 => 0x33BBDB61#32
  | 91 => 0xB3BAADFB#32
  | 92 => 0x33B9919E#32
  | 93 => 0xB3B885EC#32
  | 94 => 0x33B78A8A#32
  | 95 => 0xB3B69F28#32
  | 96 => 0x33B5C377#32
  | 97 => 0xB3B4F732#32
  | 98 => 0x33B43A15#32
  | 99 => 0xB3B38BE5#32
  | 100 => 0x33B2EC6A#32
  | 101 => 0xB3B25B72#32
  | 102 => 0x33B1D8CF#32
  | 103 => 0xB3B16459#32
  | 104 => 0x33B0FDEA#32
  | 105 => 0xB3B0A563#32
  | 106 => 0x33B05AA9#32
  | 107 => 0xB3B01DA5#32
  | 108 => 0x33AFEE43#32
  | 109 => 0xB3AFCC75#32
  | 110 => 0x33AFB831#32
  | 111 => 0xB3AFB170#32
  | 112 => 0x33AFB831#32
  | 113 => 0xB3AFCC75#32
  | 114 => 0x33AFEE43#32
  | 115 => 0xB3B01DA5#32
  | 116 => 0x33B05AA9#32
  | 117 => 0xB3B0A563#32
  | 118 => 0x33B0FDEA#32
  | 119 => 0xB3B16459#32
  | 120 => 0x33B1D8CF#32
  | 121 => 0xB3B25B72#32
  | 122 => 0x33B2EC6A#32
  | 123 => 0xB3B38BE5#32
  | 124 => 0x33B43A15#32
  | 125 => 0xB3B4F732#32
  | 126 => 0x33B5C377#32
  | 127 => 0xB3B69F28#32
  | _ => 0#32

noncomputable abbrev lit0t0_479 (i : Nat) : BitVec 32 := match i % 128 with
  | 0 => 0x33B78A8A#32
  | 1 => 0xB3B885EC#32
  | 2 => 0x33B9919E#32
  | 3 => 0xB3BAADFB#32
  | 4 => 0x33BBDB61#32
  | 5 => 0xB3BD1A36#32
  | 6 => 0x33BE6AE7#32
  | 7 => 0xB3BFCDE6#32
  | 8 => 0x33C143B0#32
  | 9 => 0xB3C2CCC7#32
  | 10 => 0x33C469B8#32
  | 11 => 0xB3C61B15#32
  | 12 => 0x33C7E17D#32
  | 13 => 0xB3C9BD97#32
  | 14 => 0x33CBB015#32
  | 15 => 0xB3CDB9B1#32
  | 16 => 0x33CFDB34#32
  | 17 => 0xB3D21572#32
  | 18 => 0x33D4694B#32
  | 19 => 0xB3D6D7AE#32
  | 20 => 0x33D96196#32
  | 21 => 0xB3DC0810#32
  | 22 => 0x33DECC38#32
  | 23 => 0xB3E1AF3D#32
  | 24 => 0x33E4B25D#32
  | 25 => 0xB3E7D6EF#32
  | 26 => 0x33EB1E5A#32
  | 27 => 0xB3EE8A1F#32
  | 28 => 0x33F21BD6#32
  | 29 => 0xB3F5D532#32
  | 30 => 0x33F9B800#32
  | 31 => 0xB3FDC62E#32
  | 32 => 0x340100E3#32
  | 33 => 0xB403367C#32
  | 34 => 0x3405850C#32
  | 35 => 0xB407EDD1#32
  | 36 => 0x340A721F#32
  | 37 => 0xB40D1360#32
  | 38 => 0x340FD31A#32
  | 39 => 0xB412B2ED#32
  | 40 => 0x3415B495#32
  | 41 => 0xB418D9F0#32
  | 42 => 0x341C2500#32
  | 43 => 0xB41F97EA#32
  | 44 => 0x342334FF#32
  | 45 => 0xB426FEBD#32
  | 46 => 0x342AF7D2#32
  | 47 => 0xB42F2322#32
  | 48 => 0x343383CC#32
  | 49 => 0xB4381D32#32
  | 50 => 0x343CF2FA#32
  | 51 => 0xB4420919#32
  | 52 => 0x344763DA#32
  | 53 => 0xB44D07E6#32
  | 54 => 0x3452FA51#32
  | 55 => 0xB45940A1#32
  | 56 => 0x345FE0DA#32
  | 57 => 0xB466E193#32
  | 58 => 0x346E49FF#32
  | 59 => 0xB4762200#32
  | 60 => 0x347E723F#32
  | 61 => 0xB483A221#32
  | 62 => 0x34885143#32
  | 63 => 0xB48D4C4D#32
  | 64 => 0x349299A5#32
  | 65 => 0xB4984061#32
  | 66 => 0x349E485F#32
  | 67 => 0xB4A4BA5F#32
  | 68 => 0x34ABA023#32
  | 69 => 0xB4B30492#32
  | 70 => 0x34BAF3E5#32
  | 71 => 0xB4C37BD6#32
  | 72 => 0x34CCABDA#32
  | 73 => 0xB4D69568#32
  | 74 => 0x34E14C49#32
  | 75 => 0xB4ECE6F7#32
  | 76 => 0x34F97F13#32
  | 77 => 0xB50398F7#32
  | 78 => 0x350B1097#32
  | 79 => 0xB51339CD#32
  | 80 => 0x351C2B08#32
  | 81 => 0xB525FE56#32
  | 82 => 0x3530D21D#32
  | 83 => 0xB53CCA00#32
  | 84 => 0x354A0FF9#32
  | 85 => 0xB558D5BB#32
  | 86 => 0x35695670#32
  | 87 => 0xB57BD8F1#32
  | 88 => 0x3588594C#32
  | 89 => 0xB5942572#32
  | 90 => 0x35A19018#32
  | 91 => 0xB5B0E6EF#32
  | 92 => 0x35C28A3B#32
  | 93 => 0xB5D6F23A#32
  | 94 => 0x35EEB658#32
  | 95 => 0xB6054B76#32
  | 96 => 0x3615C529#32
  | 97 => 0xB6296767#32
  | 98 => 0x3641014B#32
  | 99 => 0xB65DA20C#32
  | 100 => 0x368056F2#32
  | 101 => 0xB695FBC4#32
  | 102 => 0x36B0ED61#32
  | 103 => 0xB6D29E9B#32
  | 104 => 0x36FFBDB2#32
  | 105 => 0xB692EE32#32
  | 106 => 0x391EBB1A#32
  | 107 => 0x3B12D0DF#32
  | 108 => 0x3CA0086D#32
  | 109 => 0x3DBAD58B#32
  | 110 => 0x3E6BB748#32
  | 111 => 0x3EA069FE#32
  | 112 => 0x3E6BB748#32
  | 113 => 0x3DBAD58B#32
  | 114 => 0x3CA0086D#32
  | 115 => 0x3B12D0DF#32
  | 116 => 0x391EBB1A#32
  | 117 => 0xB692EE32#32
  | 118 => 0x36FFBDB2#32
  | 119 => 0xB6D29E9B#32
  | 120 => 0x36B0ED61#32
  | 121 => 0xB695FBC4#32
  | 122 => 0x368056F2#32
  | 123 => 0xB65DA20C#32
  | 124 => 0x3641014B#32
  | 125 => 0xB6296767#32
  | 126 => 0x3615C529#32
  | 127 => 0xB6054B76#32
  | _ => 0#32

noncomputable abbrev lit0t0_480 (i : Nat) : BitVec 32 := match i % 128 with
  | 0 => 0xB6054B76#32
  | 1 => 0x35EEB658#32
  | 2 => 0xB5D6F23A#32
  | 3 => 0x35C28A3B#32
  | 4 => 0xB5B0E6EF#32
  | 5 => 0x35A19018#32
  | 6 => 0xB5942572#32
  | 7 => 0x3588594C#32
  | 8 => 0xB57BD8F1#32
  | 9 => 0x35695670#32
  | 10 => 0xB558D5BB#32
  | 11 => 0x354A0FF9#32
  | 12 => 0xB53CCA00#32
  | 13 => 0x3530D21D#32
  | 14 => 0xB525FE56#32
  | 15 => 0x351C2B08#32
  | 16 => 0xB51339CD#32
  | 17 => 0x350B1097#32
  | 18 => 0xB50398F7#32
  | 19 => 0x34F97F13#32
  | 20 => 0xB4ECE6F7#32
  | 21 => 0x34E14C49#32
  | 22 => 0xB4D69568#32
  | 23 => 0x34CCABDA#32
  | 24 => 0xB4C37BD6#32
  | 25 => 0x34BAF3E5#32
  | 26 => 0xB4B30492#32
  | 27 => 0x34ABA023#32
  | 28 => 0xB4A4BA5F#32
  | 29 => 0x349E485F#32
  | 30 => 0xB4984061#32
  | 31 => 0x349299A5#32
  | 32 => 0xB48D4C4D#32
  | 33 => 0x34885143#32
  | 34 => 0xB483A221#32
  | 35 => 0x347E723F#32
  | 36 => 0xB4762200#32
  | 37 => 0x346E49FF#32
  | 38 => 0xB466E193#32
  | 39 => 0x345FE0DA#32
  | 40 => 0xB45940A1#32
  | 41 => 0x3452FA51#32
  | 42 => 0xB44D07E6#32
  | 43 => 0x344763DA#32
  | 44 => 0xB4420919#32
  | 45 => 0x343CF2FA#32
  | 46 => 0xB4381D32#32
  | 47 => 0x343383CC#32
  | 48 => 0xB42F2322#32
  | 49 => 0x342AF7D2#32
  | 50 => 0xB426FEBD#32
  | 51 => 0x342334FF#32
  | 52 => 0xB41F97EA#32
  | 53 => 0x341C2500#32
  | 54 => 0xB418D9F0#32
  | 55 => 0x3415B495#32
  | 56 => 0xB412B2ED#32
  | 57 => 0x340FD31A#32
  | 58 => 0xB40D1360#32
  | 59 => 0x340A721F#32
  | 60 => 0xB407EDD1#32
  | 61 => 0x3405850C#32
  | 62 => 0xB403367C#32
  | 63 => 0x340100E3#32
  | 64 => 0xB3FDC62E#32
  | 65 => 0x33F9B800#32
  | 66 => 0xB3F5D532#32
  | 67 => 0x33F21BD6#32
  | 68 => 0xB3EE8A1F#32
  | 69 => 0x33EB1E5A#32
  | 70 => 0xB3E7D6EF#32
  | 71 => 0x33E4B25D#32
  | 72 => 0xB3E1AF3D#32
  | 73 => 0x33DECC38#32
  | 74 => 0xB3DC0810#32
  | 75 => 0x33D96196#32
  | 76 => 0xB3D6D7AE#32
  | 77 => 0x33D4694B#32
  | 78 => 0xB3D21572#32
  | 79 => 0x33CFDB34#32
  | 80 => 0xB3CDB9B1#32
  | 81 => 0x33CBB015#32
  | 82 => 0xB3C9BD97#32
  | 83 => 0x33C7E17D#32
  | 84 => 0xB3C61B15#32
  | 85 => 0x33C469B8#32
  | 86 => 0xB3C2CCC7#32
  | 87 => 0x33C143B0#32
  | 88 => 0xB3BFCDE6#32
  | 89 => 0x33BE6AE7#32
  | 90 => 0xB3BD1A36#32
  | 91 => 0x33BBDB61#32
  | 92 => 0xB3BAADFB#32
  | 93 => 0x33B9919E#32
  | 94 => 0xB3B885EC#32
  | 95 => 0x33B78A8A#32
  | 96 => 0xB3B69F28#32
  | 97 => 0x33B5C377#32
  | 98 => 0xB3B4F732#32
  | 99 => 0x33B43A15#32
  | 100 => 0xB3B38BE5#32
  | 101 => 0x33B2EC6A#32
  | 102 => 0xB3B25B72#32
  | 103 => 0x33B1D8CF#32
  | 104 => 0xB3B16459#32
  | 105 => 0x33B0FDEA#32
  | 106 => 0xB3B0A563#32
  | 107 => 0x33B05AA9#32
  | 108 => 0xB3B01DA5#32
  | 109 => 0x33AFEE43#32
  | 110 => 0xB3AFCC75#32
  | 111 => 0x33AFB831#32
  | 112 => 0xB3AFB170#32
  | 113 => 0x33AFB831#32
  | 114 => 0xB3AFCC75#32
  | 115 => 0x33AFEE43#32
  | 116 => 0xB3B01DA5#32
  | 117 => 0x33B05AA9#32
  | 118 => 0xB3B0A563#32
  | 119 => 0x33B0FDEA#32
  | 120 => 0xB3B16459#32
  | 121 => 0x33B1D8CF#32
  | 122 => 0xB3B25B72#32
  | 123 => 0x33B2EC6A#32
  | 124 => 0xB3B38BE5#32
  | 125 => 0x33B43A15#32
  | 126 => 0xB3B4F732#32
  | 127 => 0x33B5C377#32
  | _ => 0#32

noncomputable abbrev lit0t0_481 (i : Nat) : BitVec 32 := match i % 128 with
  | 0 => 0xB3B69F28#32
  | 1 => 0x33B78A8A#32
  | 2 => 0xB3B885EC#32
  | 3 => 0x33B9919E#32
  | 4 => 0xB3BAADFB#32
  | 5 => 0x33BBDB61#32
  | 6 => 0xB3BD1A36#32
  | 7 => 0x33BE6AE7#32
  | 8 => 0xB3BFCDE6#32
  | 9 => 0x33C143B0#32
  | 10 => 0xB3C2CCC7#32
  | 11 => 0x33C469B8#32
  | 12 => 0xB3C61B15#32
  | 13 => 0x33C7E17D#32
  | 14 => 0xB3C9BD97#32
  | 15 => 0x33CBB015#32
  | 16 => 0xB3CDB9B1#32
  | 17 => 0x33CFDB34#32
  | 18 => 0xB3D21572#32
  | 19 => 0x33D4694B#32
  | 20 => 0xB3D6D7AE#32
  | 21 => 0x33D96196#32
  | 22 => 0xB3DC0810#32
  | 23 => 0x33DECC38#32
  | 24 => 0xB3E1AF3D#32
  | 25 => 0x33E4B25D#32
  | 26 => 0xB3E7D6EF#32
  | 27 => 0x33EB1E5A#32
  | 28 => 0xB3EE8A1F#32
  | 29 => 0x33F21BD6#32
  | 30 => 0xB3F5D532#32
  | 31 => 0x33F9B800#32
  | 32 => 0xB3FDC62E#32
  | 33 => 0x340100E3#32
  | 34 => 0xB403367C#32
  | 35 => 0x3405850C#32
  | 36 => 0xB407EDD1#32
  | 37 => 0x340A721F#32
  | 38 => 0xB40D1360#32
  | 39 => 0x340FD31A#32
  | 40 => 0xB412B2ED#32
  | 41 => 0x3415B495#32
  | 42 => 0xB418D9F0#32
  | 43 => 0x341C2500#32
  | 44 => 0xB41F97EA#32
  | 45 => 0x342334FF#32
  | 46 => 0xB426FEBD#32
  | 47 => 0x342AF7D2#32
  | 48 => 0xB42F2322#32
  | 49 => 0x343383CC#32
  | 50 => 0xB4381D32#32
  | 51 => 0x343CF2FA#32
  | 52 => 0xB4420919#32
  | 53 => 0x344763DA#32
  | 54 => 0xB44D07E6#32
  | 55 => 0x3452FA51#32
  | 56 => 0xB45940A1#32
  | 57 => 0x345FE0DA#32
  | 58 => 0xB466E193#32
  | 59 => 0x346E49FF#32
  | 60 => 0xB4762200#32
  | 61 => 0x347E723F#32
  | 62 => 0xB483A221#32
  | 63 => 0x34885143#32
  | 64 => 0xB48D4C4D#32
  | 65 => 0x349299A5#32
  | 66 => 0xB4984061#32
  | 67 => 0x349E485F#32
  | 68 => 0xB4A4BA5F#32
  | 69 => 0x34ABA023#32
  | 70 => 0xB4B30492#32
  | 71 => 0x34BAF3E5#32
  | 72 => 0xB4C37BD6#32
  | 73 => 0x34CCABDA#32
  | 74 => 0xB4D69568#32
  | 75 => 0x34E14C49#32
  | 76 => 0xB4ECE6F7#32
  | 77 => 0x34F97F13#32
  | 78 => 0xB50398F7#32
  | 79 => 0x350B1097#32
  | 80 => 0xB51339CD#32
  | 81 => 0x351C2B08#32
  | 82 => 0xB525FE56#32
  | 83 => 0x3530D21D#32
  | 84 => 0xB53CCA00#32
  | 85 => 0x354A0FF9#32
  | 86 => 0xB558D5BB#32
  | 87 => 0x35695670#32
  | 88 => 0xB57BD8F1#32
  | 89 => 0x3588594C#32
  | 90 => 0xB5942572#32
  | 91 => 0x35A19018#32
  | 92 => 0xB5B0E6EF#32
  | 93 => 0x35C28A3B#32
  | 94 => 0xB5D6F23A#32
  | 95 => 0x35EEB658#32
  | 96 => 0xB6054B76#32
  | 97 => 0x3615C529#32
  | 98 => 0xB6296767#32
  | 99 => 0x3641014B#32
  | 100 => 0xB65DA20C#32
  | 101 => 0x368056F2#32
  | 102 => 0xB695FBC4#32
  | 103 => 0x36B0ED61#32
  | 104 => 0xB6D29E9B#32
  | 105 => 0x36FFBDB2#32
  | 106 => 0xB692EE32#32
  | 107 => 0x391EBB1A#32
  | 108 => 0x3B12D0DF#32
  | 109 => 0x3CA0086D#32
  | 110 => 0x3DBAD58B#32
  | 111 => 0x3E6BB748#32
  | 112 => 0x3EA069FE#32
  | 113 => 0x3E6BB748#32
  | 114 => 0x3DBAD58B#32
  | 115 => 0x3CA0086D#32
  | 116 => 0x3B12D0DF#32
  | 117 => 0x391EBB1A#32
  | 118 => 0xB692EE32#32
  | 119 => 0x36FFBDB2#32
  | 120 => 0xB6D29E9B#32
  | 121 => 0x36B0ED61#32
  | 122 => 0xB695FBC4#32
  | 123 => 0x368056F2#32
  | 124 => 0xB65DA20C#32
  | 125 => 0x3641014B#32
  | 126 => 0xB6296767#32
  | 127 => 0x3615C529#32
  | _ => 0#32

noncomputable abbrev lit0t0_482 (i : Nat) : BitVec 32 := match i % 128 with
  | 0 => 0x3615C529#32
  | 1 => 0xB6054B76#32
  | 2 => 0x35EEB658#32
  | 3 => 0xB5D6F23A#32
  | 4 => 0x35C28A3B#32
  | 5 => 0xB5B0E6EF#32
  | 6 => 0x35A19018#32
  | 7 => 0xB5942572#32
  | 8 => 0x3588594C#32
  | 9 => 0xB57BD8F1#32
  | 10 => 0x35695670#32
  | 11 => 0xB558D5BB#32
  | 12 => 0x354A0FF9#32
  | 13 => 0xB53CCA00#32
  | 14 => 0x3530D21D#32
  | 15 => 0xB525FE56#32
  | 16 => 0x351C2B08#32
  | 17 => 0xB51339CD#32
  | 18 => 0x350B1097#32
  | 19 => 0xB50398F7#32
  | 20 => 0x34F97F13#32
  | 21 => 0xB4ECE6F7#32
  | 22 => 0x34E14C49#32
  | 23 => 0xB4D69568#32
  | 24 => 0x34CCABDA#32
  | 25 => 0xB4C37BD6#32
  | 26 => 0x34BAF3E5#32
  | 27 => 0xB4B30492#32
  | 28 => 0x34ABA023#32
  | 29 => 0xB4A4BA5F#32
  | 30 => 0x349E485F#32
  | 31 => 0xB4984061#32
  | 32 => 0x349299A5#32
  | 33 => 0xB48D4C4D#32
  | 34 => 0x34885143#32
  | 35 => 0xB483A221#32
  | 36 => 0x347E723F#32
  | 37 => 0xB4762200#32
  | 38 => 0x346E49FF#32
  | 39 => 0xB466E193#32
  | 40 => 0x345FE0DA#32
  | 41 => 0xB45940A1#32
  | 42 => 0x3452FA51#32
  | 43 => 0xB44D07E6#32
  | 44 => 0x344763DA#32
  | 45 => 0xB4420919#32
  | 46 => 0x343CF2FA#32
  | 47 => 0xB4381D32#32
  | 48 => 0x343383CC#32
  | 49 => 0xB42F2322#32
  | 50 => 0x342AF7D2#32
  | 51 => 0xB426FEBD#32
  | 52 => 0x342334FF#32
  | 53 => 0xB41F97EA#32
  | 54 => 0x341C2500#32
  | 55 => 0xB418D9F0#32
  | 56 => 0x3415B495#32
  | 57 => 0xB412B2ED#32
  | 58 => 0x340FD31A#32
  | 59 => 0xB40D1360#32
  | 60 => 0x340A721F#32
  | 61 => 0xB407EDD1#32
  | 62 => 0x3405850C#32
  | 63 => 0xB403367C#32
  | 64 => 0x340100E3#32
  | 65 => 0xB3FDC62E#32
  | 66 => 0x33F9B800#32
  | 67 => 0xB3F5D532#32
  | 68 => 0x33F21BD6#32
  | 69 => 0xB3EE8A1F#32
  | 70 => 0x33EB1E5A#32
  | 71 => 0xB3E7D6EF#32
  | 72 => 0x33E4B25D#32
  | 73 => 0xB3E1AF3D#32
  | 74 => 0x33DECC38#32
  | 75 => 0xB3DC0810#32
  | 76 => 0x33D96196#32
  | 77 => 0xB3D6D7AE#32
  | 78 => 0x33D4694B#32
  | 79 => 0xB3D21572#32
  | 80 => 0x33CFDB34#32
  | 81 => 0xB3CDB9B1#32
  | 82 => 0x33CBB015#32
  | 83 => 0xB3C9BD97#32
  | 84 => 0x33C7E17D#32
  | 85 => 0xB3C61B15#32
  | 86 => 0x33C469B8#32
  | 87 => 0xB3C2CCC7#32
  | 88 => 0x33C143B0#32
  | 89 => 0xB3BFCDE6#32
  | 90 => 0x33BE6AE7#32
  | 91 => 0xB3BD1A36#32
  | 92 => 0x33BBDB61#32
  | 93 => 0xB3BAADFB#32
  | 94 => 0x33B9919E#32
  | 95 => 0xB3B885EC#32
  | 96 => 0x33B78A8A#32
  | 97 => 0xB3B69F28#32
  | 98 => 0x33B5C377#32
  | 99 => 0xB3B4F732#32
  | 100 => 0x33B43A15#32
  | 101 => 0xB3B38BE5#32
  | 102 => 0x33B2EC6A#32
  | 103 => 0xB3B25B72#32
  | 104 => 0x33B1D8CF#32
  | 105 => 0xB3B16459#32
  | 106 => 0x33B0FDEA#32
  | 107 => 0xB3B0A563#32
  | 108 => 0x33B05AA9#32
  | 109 => 0xB3B01DA5#32
  | 110 => 0x33AFEE43#32
  | 111 => 0xB3AFCC75#32
  | 112 => 0x33AFB831#32
  | 113 => 0xB3AFB170#32
  | 114 => 0x33AFB831#32
  | 115 => 0xB3AFCC75#32
  | 116 => 0x33AFEE43#32
  | 117 => 0xB3B01DA5#32
  | 118 => 0x33B05AA9#32
  | 119 => 0xB3B0A563#32
  | 120 => 0x33B0FDEA#32
  | 121 => 0xB3B16459#32
  | 122 => 0x33B1D8CF#32
  | 123 => 0xB3B25B72#32
  | 124 => 0x33B2EC6A#32
  | 125 => 0xB3B38BE5#32
  | 126 => 0x33B43A15#32
  | 127 => 0xB3B4F732#32
  | _ => 0#32

noncomputable abbrev lit0t0_483 (i : Nat) : BitVec 32 := match i % 128 with
  | 0 => 0x33B5C377#32
  | 1 => 0xB3B69F28#32
  | 2 => 0x33B78A8A#32
  | 3 => 0xB3B885EC#32
  | 4 => 0x33B9919E#32
  | 5 => 0xB3BAADFB#32
  | 6 => 0x33BBDB61#32
  | 7 => 0xB3BD1A36#32
  | 8 => 0x33BE6AE7#32
  | 9 => 0xB3BFCDE6#32
  | 10 => 0x33C143B0#32
  | 11 => 0xB3C2CCC7#32
  | 12 => 0x33C469B8#32
  | 13 => 0xB3C61B15#32
  | 14 => 0x33C7E17D#32
  | 15 => 0xB3C9BD97#32
  | 16 => 0x33CBB015#32
  | 17 => 0xB3CDB9B1#32
  | 18 => 0x33CFDB34#32
  | 19 => 0xB3D21572#32
  | 20 => 0x33D4694B#32
  | 21 => 0xB3D6D7AE#32
  | 22 => 0x33D96196#32
  | 23 => 0xB3DC0810#32
  | 24 => 0x33DECC38#32
  | 25 => 0xB3E1AF3D#32
  | 26 => 0x33E4B25D#32
  | 27 => 0xB3E7D6EF#32
  | 28 => 0x33EB1E5A#32
  | 29 => 0xB3EE8A1F#32
  | 30 => 0x33F21BD6#32
  | 31 => 0xB3F5D532#32
  | 32 => 0x33F9B800#32
  | 33 => 0xB3FDC62E#32
  | 34 => 0x340100E3#32
  | 35 => 0xB403367C#32
  | 36 => 0x3405850C#32
  | 37 => 0xB407EDD1#32
  | 38 => 0x340A721F#32
  | 39 => 0xB40D1360#32
  | 40 => 0x340FD31A#32
  | 41 => 0xB412B2ED#32
  | 42 => 0x3415B495#32
  | 43 => 0xB418D9F0#32
  | 44 => 0x341C2500#32
  | 45 => 0xB41F97EA#32
  | 46 => 0x342334FF#32
  | 47 => 0xB426FEBD#32
  | 48 => 0x342AF7D2#32
  | 49 => 0xB42F2322#32
  | 50 => 0x343383CC#32
  | 51 => 0xB4381D32#32
  | 52 => 0x343CF2FA#32
  | 53 => 0xB4420919#32
  | 54 => 0x344763DA#32
  | 55 => 0xB44D07E6#32
  | 56 => 0x3452FA51#32
  | 57 => 0xB45940A1#32
  | 58 => 0x345FE0DA#32
  | 59 => 0xB466E193#32
  | 60 => 0x346E49FF#32
  | 61 => 0xB4762200#32
  | 62 => 0x347E723F#32
  | 63 => 0xB483A221#32
  | 64 => 0x34885143#32
  | 65 => 0xB48D4C4D#32
  | 66 => 0x349299A5#32
  | 67 => 0xB4984061#32
  | 68 => 0x349E485F#32
  | 69 => 0xB4A4BA5F#32
  | 70 => 0x34ABA023#32
  | 71 => 0xB4B30492#32
  | 72 => 0x34BAF3E5#32
  | 73 => 0xB4C37BD6#32
  | 74 => 0x34CCABDA#32
  | 75 => 0xB4D69568#32
  | 76 => 0x34E14C49#32
  | 77 => 0xB4ECE6F7#32
  | 78 => 0x34F97F13#32
  | 79 => 0xB50398F7#32
  | 80 => 0x350B1097#32
  | 81 => 0xB51339CD#32
  | 82 => 0x351C2B08#32
  | 83 => 0xB525FE56#32
  | 84 => 0x3530D21D#32
  | 85 => 0xB53CCA00#32
  | 86 => 0x354A0FF9#32
  | 87 => 0xB558D5BB#32
  | 88 => 0x35695670#32
  | 89 => 0xB57BD8F1#32
  | 90 => 0x3588594C#32
  | 91 => 0xB5942572#32
  | 92 => 0x35A19018#32
  | 93 => 0xB5B0E6EF#32
  | 94 => 0x35C28A3B#32
  | 95 => 0xB5D6F23A#32
  | 96 => 0x35EEB658#32
  | 97 => 0xB6054B76#32
  | 98 => 0x3615C529#32
  | 99 => 0xB6296767#32
  | 100 => 0x3641014B#32
  | 101 => 0xB65DA20C#32
  | 102 => 0x368056F2#32
  | 103 => 0xB695FBC4#32
  | 104 => 0x36B0ED61#32
  | 105 => 0xB6D29E9B#32
  | 106 => 0x36FFBDB2#32
  | 107 => 0xB692EE32#32
  | 108 => 0x391EBB1A#32
  | 109 => 0x3B12D0DF#32
  | 110 => 0x3CA0086D#32
  | 111 => 0x3DBAD58B#32
  | 112 => 0x3E6BB748#32
  | 113 => 0x3EA069FE#32
  | 114 => 0x3E6BB748#32
  | 115 => 0x3DBAD58B#32
  | 116 => 0x3CA0086D#32
  | 117 => 0x3B12D0DF#32
  | 118 => 0x391EBB1A#32
  | 119 => 0xB692EE32#32
  | 120 => 0x36FFBDB2#32
  | 121 => 0xB6D29E9B#32
  | 122 => 0x36B0ED61#32
  | 123 => 0xB695FBC4#32
  | 124 => 0x368056F2#32
  | 125 => 0xB65DA20C#32
  | 126 => 0x3641014B#32
  | 127 => 0xB6296767#32
  | _ => 0#32

noncomputable abbrev lit0t0_484 (i : Nat) : BitVec 32 := match i % 128 with
  | 0 => 0xB6296767#32
  | 1 => 0x3615C529#32
  | 2 => 0xB6054B76#32
  | 3 => 0x35EEB658#32
  | 4 => 0xB5D6F23A#32
  | 5 => 0x35C28A3B#32
  | 6 => 0xB5B0E6EF#32
  | 7 => 0x35A19018#32
  | 8 => 0xB5942572#32
  | 9 => 0x3588594C#32
  | 10 => 0xB57BD8F1#32
  | 11 => 0x35695670#32
  | 12 => 0xB558D5BB#32
  | 13 => 0x354A0FF9#32
  | 14 => 0xB53CCA00#32
  | 15 => 0x3530D21D#32
  | 16 => 0xB525FE56#32
  | 17 => 0x351C2B08#32
  | 18 => 0xB51339CD#32
  | 19 => 0x350B1097#32
  | 20 => 0xB50398F7#32
  | 21 => 0x34F97F13#32
  | 22 => 0xB4ECE6F7#32
  | 23 => 0x34E14C49#32
  | 24 => 0xB4D69568#32
  | 25 => 0x34CCABDA#32
  | 26 => 0xB4C37BD6#32
  | 27 => 0x34BAF3E5#32
  | 28 => 0xB4B30492#32
  | 29 => 0x34ABA023#32
  | 30 => 0xB4A4BA5F#32
  | 31 => 0x349E485F#32
  | 32 => 0xB4984061#32
  | 33 => 0x349299A5#32
  | 34 => 0xB48D4C4D#32
  | 35 => 0x34885143#32
  | 36 => 0xB483A221#32
  | 37 => 0x347E723F#32
  | 38 => 0xB4762200#32
  | 39 => 0x346E49FF#32
  | 40 => 0xB466E193#32
  | 41 => 0x345FE0DA#32
  | 42 => 0xB45940A1#32
  | 43 => 0x3452FA51#32
  | 44 => 0xB44D07E6#32
  | 45 => 0x344763DA#32
  | 46 => 0xB4420919#32
  | 47 => 0x343CF2FA#32
  | 48 => 0xB4381D32#32
  | 49 => 0x343383CC#32
  | 50 => 0xB42F2322#32
  | 51 => 0x342AF7D2#32
  | 52 => 0xB426FEBD#32
  | 53 => 0x342334FF#32
  | 54 => 0xB41F97EA#32
  | 55 => 0x341C2500#32
  | 56 => 0xB418D9F0#32
  | 57 => 0x3415B495#32
  | 58 => 0xB412B2ED#32
  | 59 => 0x340FD31A#32
  | 60 => 0xB40D1360#32
  | 61 => 0x340A721F#32
  | 62 => 0xB407EDD1#32
  | 63 => 0x3405850C#32
  | 64 => 0xB403367C#32
  | 65 => 0x340100E3#32
  | 66 => 0xB3FDC62E#32
  | 67 => 0x33F9B800#32
  | 68 => 0xB3F5D532#32
  | 69 => 0x33F21BD6#32
  | 70 => 0xB3EE8A1F#32
  | 71 => 0x33EB1E5A#32
  | 72 => 0xB3E7D6EF#32
  | 73 => 0x33E4B25D#32
  | 74 => 0xB3E1AF3D#32
  | 75 => 0x33DECC38#32
  | 76 => 0xB3DC0810#32
  | 77 => 0x33D96196#32
  | 78 => 0xB3D6D7AE#32
  | 79 => 0x33D4694B#32
  | 80 => 0xB3D21572#32
  | 81 => 0x33CFDB34#32
  | 82 => 0xB3CDB9B1#32
  | 83 => 0x33CBB015#32
  | 84 => 0xB3C9BD97#32
  | 85 => 0x33C7E17D#32
  | 86 => 0xB3C61B15#32
  | 87 => 0x33C469B8#32
  | 88 => 0xB3C2CCC7#32
  | 89 => 0x33C143B0#32
  | 90 => 0xB3BFCDE6#32
  | 91 => 0x33BE6AE7#32
  | 92 => 0xB3BD1A36#32
  | 93 => 0x33BBDB61#32
  | 94 => 0xB3BAADFB#32
  | 95 => 0x33B9919E#32
  | 96 => 0xB3B885EC#32
  | 97 => 0x33B78A8A#32
  | 98 => 0xB3B69F28#32
  | 99 => 0x33B5C377#32
  | 100 => 0xB3B4F732#32
  | 101 => 0x33B43A15#32
  | 102 => 0xB3B38BE5#32
  | 103 => 0x33B2EC6A#32
  | 104 => 0xB3B25B72#32
  | 105 => 0x33B1D8CF#32
  | 106 => 0xB3B16459#32
  | 107 => 0x33B0FDEA#32
  | 108 => 0xB3B0A563#32
  | 109 => 0x33B05AA9#32
  | 110 => 0xB3B01DA5#32
  | 111 => 0x33AFEE43#32
  | 112 => 0xB3AFCC75#32
  | 113 => 0x33AFB831#32
  | 114 => 0xB3AFB170#32
  | 115 => 0x33AFB831#32
  | 116 => 0xB3AFCC75#32
  | 117 => 0x33AFEE43#32
  | 118 => 0xB3B01DA5#32
  | 119 => 0x33B05AA9#32
  | 120 => 0xB3B0A563#32
  | 121 => 0x33B0FDEA#32
  | 122 => 0xB3B16459#32
  | 123 => 0x33B1D8CF#32
  | 124 => 0xB3B25B72#32
  | 125 => 0x33B2EC6A#32
  | 126 => 0xB3B38BE5#32
  | 127 => 0x33B43A15#32
  | _ => 0#32

noncomputable abbrev lit0t0_485 (i : Nat) : BitVec 32 := match i % 128 with
  | 0 => 0xB3B4F732#32
  | 1 => 0x33B5C377#32
  | 2 => 0xB3B69F28#32
  | 3 => 0x33B78A8A#32
  | 4 => 0xB3B885EC#32
  | 5 => 0x33B9919E#32
  | 6 => 0xB3BAADFB#32
  | 7 => 0x33BBDB61#32
  | 8 => 0xB3BD1A36#32
  | 9 => 0x33BE6AE7#32
  | 10 => 0xB3BFCDE6#32
  | 11 => 0x33C143B0#32
  | 12 => 0xB3C2CCC7#32
  | 13 => 0x33C469B8#32
  | 14 => 0xB3C61B15#32
  | 15 => 0x33C7E17D#32
  | 16 => 0xB3C9BD97#32
  | 17 => 0x33CBB015#32
  | 18 => 0xB3CDB9B1#32
  | 19 => 0x33CFDB34#32
  | 20 => 0xB3D21572#32
  | 21 => 0x33D4694B#32
  | 22 => 0xB3D6D7AE#32
  | 23 => 0x33D96196#32
  | 24 => 0xB3DC0810#32
  | 25 => 0x33DECC38#32
  | 26 => 0xB3E1AF3D#32
  | 27 => 0x33E4B25D#32
  | 28 => 0xB3E7D6EF#32
  | 29 => 0x33EB1E5A#32
  | 30 => 0xB3EE8A1F#32
  | 31 => 0x33F21BD6#32
  | 32 => 0xB3F5D532#32
  | 33 => 0x33F9B800#32
  | 34 => 0xB3FDC62E#32
  | 35 => 0x340100E3#32
  | 36 => 0xB403367C#32
  | 37 => 0x3405850C#32
  | 38 => 0xB407EDD1#32
  | 39 => 0x340A721F#32
  | 40 => 0xB40D1360#32
  | 41 => 0x340FD31A#32
  | 42 => 0xB412B2ED#32
  | 43 => 0x3415B495#32
  | 44 => 0xB418D9F0#32
  | 45 => 0x341C2500#32
  | 46 => 0xB41F97EA#32
  | 47 => 0x342334FF#32
  | 48 => 0xB426FEBD#32
  | 49 => 0x342AF7D2#32
  | 50 => 0xB42F2322#32
  | 51 => 0x343383CC#32
  | 52 => 0xB4381D32#32
  | 53 => 0x343CF2FA#32
  | 54 => 0xB4420919#32
  | 55 => 0x344763DA#32
  | 56 => 0xB44D07E6#32
  | 57 => 0x3452FA51#32
  | 58 => 0xB45940A1#32
  | 59 => 0x345FE0DA#32
  | 60 => 0xB466E193#32
  | 61 => 0x346E49FF#32
  | 62 => 0xB4762200#32
  | 63 => 0x347E723F#32
  | 64 => 0xB483A221#32
  | 65 => 0x34885143#32
  | 66 => 0xB48D4C4D#32
  | 67 => 0x349299A5#32
  | 68 => 0xB4984061#32
  | 69 => 0x349E485F#32
  | 70 => 0xB4A4BA5F#32
  | 71 => 0x34ABA023#32
  | 72 => 0xB4B30492#32
  | 73 => 0x34BAF3E5#32
  | 74 => 0xB4C37BD6#32
  | 75 => 0x34CCABDA#32
  | 76 => 0xB4D69568#32
  | 77 => 0x34E14C49#32
  | 78 => 0xB4ECE6F7#32
  | 79 => 0x34F97F13#32
  | 80 => 0xB50398F7#32
  | 81 => 0x350B1097#32
  | 82 => 0xB51339CD#32
  | 83 => 0x351C2B08#32
  | 84 => 0xB525FE56#32
  | 85 => 0x3530D21D#32
  | 86 => 0xB53CCA00#32
  | 87 => 0x354A0FF9#32
  | 88 => 0xB558D5BB#32
  | 89 => 0x35695670#32
  | 90 => 0xB57BD8F1#32
  | 91 => 0x3588594C#32
  | 92 => 0xB5942572#32
  | 93 => 0x35A19018#32
  | 94 => 0xB5B0E6EF#32
  | 95 => 0x35C28A3B#32
  | 96 => 0xB5D6F23A#32
  | 97 => 0x35EEB658#32
  | 98 => 0xB6054B76#32
  | 99 => 0x3615C529#32
  | 100 => 0xB6296767#32
  | 101 => 0x3641014B#32
  | 102 => 0xB65DA20C#32
  | 103 => 0x368056F2#32
  | 104 => 0xB695FBC4#32
  | 105 => 0x36B0ED61#32
  | 106 => 0xB6D29E9B#32
  | 107 => 0x36FFBDB2#32
  | 108 => 0xB692EE32#32
  | 109 => 0x391EBB1A#32
  | 110 => 0x3B12D0DF#32
  | 111 => 0x3CA0086D#32
  | 112 => 0x3DBAD58B#32
  | 113 => 0x3E6BB748#32
  | 114 => 0x3EA069FE#32
  | 115 => 0x3E6BB748#32
  | 116 => 0x3DBAD58B#32
  | 117 => 0x3CA0086D#32
  | 118 => 0x3B12D0DF#32
  | 119 => 0x391EBB1A#32
  | 120 => 0xB692EE32#32
  | 121 => 0x36FFBDB2#32
  | 122 => 0xB6D29E9B#32
  | 123 => 0x36B0ED61#32
  | 124 => 0xB695FBC4#32
  | 125 => 0x368056F2#32
  | 126 => 0xB65DA20C#32
  | 127 => 0x3641014B#32
  | _ => 0#32

noncomputable abbrev lit0t0_486 (i : Nat) : BitVec 32 := match i % 128 with
  | 0 => 0x3641014B#32
  | 1 => 0xB6296767#32
  | 2 => 0x3615C529#32
  | 3 => 0xB6054B76#32
  | 4 => 0x35EEB658#32
  | 5 => 0xB5D6F23A#32
  | 6 => 0x35C28A3B#32
  | 7 => 0xB5B0E6EF#32
  | 8 => 0x35A19018#32
  | 9 => 0xB5942572#32
  | 10 => 0x3588594C#32
  | 11 => 0xB57BD8F1#32
  | 12 => 0x35695670#32
  | 13 => 0xB558D5BB#32
  | 14 => 0x354A0FF9#32
  | 15 => 0xB53CCA00#32
  | 16 => 0x3530D21D#32
  | 17 => 0xB525FE56#32
  | 18 => 0x351C2B08#32
  | 19 => 0xB51339CD#32
  | 20 => 0x350B1097#32
  | 21 => 0xB50398F7#32
  | 22 => 0x34F97F13#32
  | 23 => 0xB4ECE6F7#32
  | 24 => 0x34E14C49#32
  | 25 => 0xB4D69568#32
  | 26 => 0x34CCABDA#32
  | 27 => 0xB4C37BD6#32
  | 28 => 0x34BAF3E5#32
  | 29 => 0xB4B30492#32
  | 30 => 0x34ABA023#32
  | 31 => 0xB4A4BA5F#32
  | 32 => 0x349E485F#32
  | 33 => 0xB4984061#32
  | 34 => 0x349299A5#32
  | 35 => 0xB48D4C4D#32
  | 36 => 0x34885143#32
  | 37 => 0xB483A221#32
  | 38 => 0x347E723F#32
  | 39 => 0xB4762200#32
  | 40 => 0x346E49FF#32
  | 41 => 0xB466E193#32
  | 42 => 0x345FE0DA#32
  | 43 => 0xB45940A1#32
  | 44 => 0x3452FA51#32
  | 45 => 0xB44D07E6#32
  | 46 => 0x344763DA#32
  | 47 => 0xB4420919#32
  | 48 => 0x343CF2FA#32
  | 49 => 0xB4381D32#32
  | 50 => 0x343383CC#32
  | 51 => 0xB42F2322#32
  | 52 => 0x342AF7D2#32
  | 53 => 0xB426FEBD#32
  | 54 => 0x342334FF#32
  | 55 => 0xB41F97EA#32
  | 56 => 0x341C2500#32
  | 57 => 0xB418D9F0#32
  | 58 => 0x3415B495#32
  | 59 => 0xB412B2ED#32
  | 60 => 0x340FD31A#32
  | 61 => 0xB40D1360#32
  | 62 => 0x340A721F#32
  | 63 => 0xB407EDD1#32
  | 64 => 0x3405850C#32
  | 65 => 0xB403367C#32
  | 66 => 0x340100E3#32
  | 67 => 0xB3FDC62E#32
  | 68 => 0x33F9B800#32
  | 69 => 0xB3F5D532#32
  | 70 => 0x33F21BD6#32
  | 71 => 0xB3EE8A1F#32
  | 72 => 0x33EB1E5A#32
  | 73 => 0xB3E7D6EF#32
  | 74 => 0x33E4B25D#32
  | 75 => 0xB3E1AF3D#32
  | 76 => 0x33DECC38#32
  | 77 => 0xB3DC0810#32
  | 78 => 0x33D96196#32
  | 79 => 0xB3D6D7AE#32
  | 80 => 0x33D4694B#32
  | 81 => 0xB3D21572#32
  | 82 => 0x33CFDB34#32
  | 83 => 0xB3CDB9B1#32
  | 84 => 0x33CBB015#32
  | 85 => 0xB3C9BD97#32
  | 86 => 0x33C7E17D#32
  | 87 => 0xB3C61B15#32
  | 88 => 0x33C469B8#32
  | 89 => 0xB3C2CCC7#32
  | 90 => 0x33C143B0#32
  | 91 => 0xB3BFCDE6#32
  | 92 => 0x33BE6AE7#32
  | 93 => 0xB3BD1A36#32
  | 94 => 0x33BBDB61#32
  | 95 => 0xB3BAADFB#32
  | 96 => 0x33B9919E#32
  | 97 => 0xB3B885EC#32
  | 98 => 0x33B78A8A#32
  | 99 => 0xB3B69F28#32
  | 100 => 0x33B5C377#32
  | 101 => 0xB3B4F732#32
  | 102 => 0x33B43A15#32
  | 103 => 0xB3B38BE5#32
  | 104 => 0x33B2EC6A#32
  | 105 => 0xB3B25B72#32
  | 106 => 0x33B1D8CF#32
  | 107 => 0xB3B16459#32
  | 108 => 0x33B0FDEA#32
  | 109 => 0xB3B0A563#32
  | 110 => 0x33B05AA9#32
  | 111 => 0xB3B01DA5#32
  | 112 => 0x33AFEE43#32
  | 113 => 0xB3AFCC75#32
  | 114 => 0x33AFB831#32
  | 115 => 0xB3AFB170#32
  | 116 => 0x33AFB831#32
  | 117 => 0xB3AFCC75#32
  | 118 => 0x33AFEE43#32
  | 119 => 0xB3B01DA5#32
  | 120 => 0x33B05AA9#32
  | 121 => 0xB3B0A563#32
  | 122 => 0x33B0FDEA#32
  | 123 => 0xB3B16459#32
  | 124 => 0x33B1D8CF#32
  | 125 => 0xB3B25B72#32
  | 126 => 0x33B2EC6A#32
  | 127 => 0xB3B38BE5#32
  | _ => 0#32

noncomputable abbrev lit0t0_487 (i : Nat) : BitVec 32 := match i % 128 with
  | 0 => 0x33B43A15#32
  | 1 => 0xB3B4F732#32
  | 2 => 0x33B5C377#32
  | 3 => 0xB3B69F28#32
  | 4 => 0x33B78A8A#32
  | 5 => 0xB3B885EC#32
  | 6 => 0x33B9919E#32
  | 7 => 0xB3BAADFB#32
  | 8 => 0x33BBDB61#32
  | 9 => 0xB3BD1A36#32
  | 10 => 0x33BE6AE7#32
  | 11 => 0xB3BFCDE6#32
  | 12 => 0x33C143B0#32
  | 13 => 0xB3C2CCC7#32
  | 14 => 0x33C469B8#32
  | 15 => 0xB3C61B15#32
  | 16 => 0x33C7E17D#32
  | 17 => 0xB3C9BD97#32
  | 18 => 0x33CBB015#32
  | 19 => 0xB3CDB9B1#32
  | 20 => 0x33CFDB34#32
  | 21 => 0xB3D21572#32
  | 22 => 0x33D4694B#32
  | 23 => 0xB3D6D7AE#32
  | 24 => 0x33D96196#32
  | 25 => 0xB3DC0810#32
  | 26 => 0x33DECC38#32
  | 27 => 0xB3E1AF3D#32
  | 28 => 0x33E4B25D#32
  | 29 => 0xB3E7D6EF#32
  | 30 => 0x33EB1E5A#32
  | 31 => 0xB3EE8A1F#32
  | 32 => 0x33F21BD6#32
  | 33 => 0xB3F5D532#32
  | 34 => 0x33F9B800#32
  | 35 => 0xB3FDC62E#32
  | 36 => 0x340100E3#32
  | 37 => 0xB403367C#32
  | 38 => 0x3405850C#32
  | 39 => 0xB407EDD1#32
  | 40 => 0x340A721F#32
  | 41 => 0xB40D1360#32
  | 42 => 0x340FD31A#32
  | 43 => 0xB412B2ED#32
  | 44 => 0x3415B495#32
  | 45 => 0xB418D9F0#32
  | 46 => 0x341C2500#32
  | 47 => 0xB41F97EA#32
  | 48 => 0x342334FF#32
  | 49 => 0xB426FEBD#32
  | 50 => 0x342AF7D2#32
  | 51 => 0xB42F2322#32
  | 52 => 0x343383CC#32
  | 53 => 0xB4381D32#32
  | 54 => 0x343CF2FA#32
  | 55 => 0xB4420919#32
  | 56 => 0x344763DA#32
  | 57 => 0xB44D07E6#32
  | 58 => 0x3452FA51#32
  | 59 => 0xB45940A1#32
  | 60 => 0x345FE0DA#32
  | 61 => 0xB466E193#32
  | 62 => 0x346E49FF#32
  | 63 => 0xB4762200#32
  | 64 => 0x347E723F#32
  | 65 => 0xB483A221#32
  | 66 => 0x34885143#32
  | 67 => 0xB48D4C4D#32
  | 68 => 0x349299A5#32
  | 69 => 0xB4984061#32
  | 70 => 0x349E485F#32
  | 71 => 0xB4A4BA5F#32
  | 72 => 0x34ABA023#32
  | 73 => 0xB4B30492#32
  | 74 => 0x34BAF3E5#32
  | 75 => 0xB4C37BD6#32
  | 76 => 0x34CCABDA#32
  | 77 => 0xB4D69568#32
  | 78 => 0x34E14C49#32
  | 79 => 0xB4ECE6F7#32
  | 80 => 0x34F97F13#32
  | 81 => 0xB50398F7#32
  | 82 => 0x350B1097#32
  | 83 => 0xB51339CD#32
  | 84 => 0x351C2B08#32
  | 85 => 0xB525FE56#32
  | 86 => 0x3530D21D#32
  | 87 => 0xB53CCA00#32
  | 88 => 0x354A0FF9#32
  | 89 => 0xB558D5BB#32
  | 90 => 0x35695670#32
  | 91 => 0xB57BD8F1#32
  | 92 => 0x3588594C#32
  | 93 => 0xB5942572#32
  | 94 => 0x35A19018#32
  | 95 => 0xB5B0E6EF#32
  | 96 => 0x35C28A3B#32
  | 97 => 0xB5D6F23A#32
  | 98 => 0x35EEB658#32
  | 99 => 0xB6054B76#32
  | 100 => 0x3615C529#32
  | 101 => 0xB6296767#32
  | 102 => 0x3641014B#32
  | 103 => 0xB65DA20C#32
  | 104 => 0x368056F2#32
  | 105 => 0xB695FBC4#32
  | 106 => 0x36B0ED61#32
  | 107 => 0xB6D29E9B#32
  | 108 => 0x36FFBDB2#32
  | 109 => 0xB692EE32#32
  | 110 => 0x391EBB1A#32
  | 111 => 0x3B12D0DF#32
  | 112 => 0x3CA0086D#32
  | 113 => 0x3DBAD58B#32
  | 114 => 0x3E6BB748#32
  | 115 => 0x3EA069FE#32
  | 116 => 0x3E6BB748#32
  | 117 => 0x3DBAD58B#32
  | 118 => 0x3CA0086D#32
  | 119 => 0x3B12D0DF#32
  | 120 => 0x391EBB1A#32
  | 121 => 0xB692EE32#32
  | 122 => 0x36FFBDB2#32
  | 123 => 0xB6D29E9B#32
  | 124 => 0x36B0ED61#32
  | 125 => 0xB695FBC4#32
  | 126 => 0x368056F2#32
  | 127 => 0xB65DA20C#32
  | _ => 0#32

noncomputable abbrev lit0t0_488 (i : Nat) : BitVec 32 := match i % 128 with
  | 0 => 0xB65DA20C#32
  | 1 => 0x3641014B#32
  | 2 => 0xB6296767#32
  | 3 => 0x3615C529#32
  | 4 => 0xB6054B76#32
  | 5 => 0x35EEB658#32
  | 6 => 0xB5D6F23A#32
  | 7 => 0x35C28A3B#32
  | 8 => 0xB5B0E6EF#32
  | 9 => 0x35A19018#32
  | 10 => 0xB5942572#32
  | 11 => 0x3588594C#32
  | 12 => 0xB57BD8F1#32
  | 13 => 0x35695670#32
  | 14 => 0xB558D5BB#32
  | 15 => 0x354A0FF9#32
  | 16 => 0xB53CCA00#32
  | 17 => 0x3530D21D#32
  | 18 => 0xB525FE56#32
  | 19 => 0x351C2B08#32
  | 20 => 0xB51339CD#32
  | 21 => 0x350B1097#32
  | 22 => 0xB50398F7#32
  | 23 => 0x34F97F13#32
  | 24 => 0xB4ECE6F7#32
  | 25 => 0x34E14C49#32
  | 26 => 0xB4D69568#32
  | 27 => 0x34CCABDA#32
  | 28 => 0xB4C37BD6#32
  | 29 => 0x34BAF3E5#32
  | 30 => 0xB4B30492#32
  | 31 => 0x34ABA023#32
  | 32 => 0xB4A4BA5F#32
  | 33 => 0x349E485F#32
  | 34 => 0xB4984061#32
  | 35 => 0x349299A5#32
  | 36 => 0xB48D4C4D#32
  | 37 => 0x34885143#32
  | 38 => 0xB483A221#32
  | 39 => 0x347E723F#32
  | 40 => 0xB4762200#32
  | 41 => 0x346E49FF#32
  | 42 => 0xB466E193#32
  | 43 => 0x345FE0DA#32
  | 44 => 0xB45940A1#32
  | 45 => 0x3452FA51#32
  | 46 => 0xB44D07E6#32
  | 47 => 0x344763DA#32
  | 48 => 0xB4420919#32
  | 49 => 0x343CF2FA#32
  | 50 => 0xB4381D32#32
  | 51 => 0x343383CC#32
  | 52 => 0xB42F2322#32
  | 53 => 0x342AF7D2#32
  | 54 => 0xB426FEBD#32
  | 55 => 0x342334FF#32
  | 56 => 0xB41F97EA#32
  | 57 => 0x341C2500#32
  | 58 => 0xB418D9F0#32
  | 59 => 0x3415B495#32
  | 60 => 0xB412B2ED#32
  | 61 => 0x340FD31A#32
  | 62 => 0xB40D1360#32
  | 63 => 0x340A721F#32
  | 64 => 0xB407EDD1#32
  | 65 => 0x3405850C#32
  | 66 => 0xB403367C#32
  | 67 => 0x340100E3#32
  | 68 => 0xB3FDC62E#32
  | 69 => 0x33F9B800#32
  | 70 => 0xB3F5D532#32
  | 71 => 0x33F21BD6#32
  | 72 => 0xB3EE8A1F#32
  | 73 => 0x33EB1E5A#32
  | 74 => 0xB3E7D6EF#32
  | 75 => 0x33E4B25D#32
  | 76 => 0xB3E1AF3D#32
  | 77 => 0x33DECC38#32
  | 78 => 0xB3DC0810#32
  | 79 => 0x33D96196#32
  | 80 => 0xB3D6D7AE#32
  | 81 => 0x33D4694B#32
  | 82 => 0xB3D21572#32
  | 83 => 0x33CFDB34#32
  | 84 => 0xB3CDB9B1#32
  | 85 => 0x33CBB015#32
  | 86 => 0xB3C9BD97#32
  | 87 => 0x33C7E17D#32
  | 88 => 0xB3C61B15#32
  | 89 => 0x33C469B8#32
  | 90 => 0xB3C2CCC7#32
  | 91 => 0x33C143B0#32
  | 92 => 0xB3BFCDE6#32
  | 93 => 0x33BE6AE7#32
  | 94 => 0xB3BD1A36#32
  | 95 => 0x33BBDB61#32
  | 96 => 0xB3BAADFB#32
  | 97 => 0x33B9919E#32
  | 98 => 0xB3B885EC#32
  | 99 => 0x33B78A8A#32
  | 100 => 0xB3B69F28#32
  | 101 => 0x33B5C377#32
  | 102 => 0xB3B4F732#32
  | 103 => 0x33B43A15#32
  | 104 => 0xB3B38BE5#32
  | 105 => 0x33B2EC6A#32
  | 106 => 0xB3B25B72#32
  | 107 => 0x33B1D8CF#32
  | 108 => 0xB3B16459#32
  | 109 => 0x33B0FDEA#32
  | 110 => 0xB3B0A563#32
  | 111 => 0x33B05AA9#32
  | 112 => 0xB3B01DA5#32
  | 113 => 0x33AFEE43#32
  | 114 => 0xB3AFCC75#32
  | 115 => 0x33AFB831#32
  | 116 => 0xB3AFB170#32
  | 117 => 0x33AFB831#32
  | 118 => 0xB3AFCC75#32
  | 119 => 0x33AFEE43#32
  | 120 => 0xB3B01DA5#32
  | 121 => 0x33B05AA9#32
  | 122 => 0xB3B0A563#32
  | 123 => 0x33B0FDEA#32
  | 124 => 0xB3B16459#32
  | 125 => 0x33B1D8CF#32
  | 126 => 0xB3B25B72#32
  | 127 => 0x33B2EC6A#32
  | _ => 0#32

noncomputable abbrev lit0t0_489 (i : Nat) : BitVec 32 := match i % 128 with
  | 0 => 0xB3B38BE5#32
  | 1 => 0x33B43A15#32
  | 2 => 0xB3B4F732#32
  | 3 => 0x33B5C377#32
  | 4 => 0xB3B69F28#32
  | 5 => 0x33B78A8A#32
  | 6 => 0xB3B885EC#32
  | 7 => 0x33B9919E#32
  | 8 => 0xB3BAADFB#32
  | 9 => 0x33BBDB61#32
  | 10 => 0xB3BD1A36#32
  | 11 => 0x33BE6AE7#32
  | 12 => 0xB3BFCDE6#32
  | 13 => 0x33C143B0#32
  | 14 => 0xB3C2CCC7#32
  | 15 => 0x33C469B8#32
  | 16 => 0xB3C61B15#32
  | 17 => 0x33C7E17D#32
  | 18 => 0xB3C9BD97#32
  | 19 => 0x33CBB015#32
  | 20 => 0xB3CDB9B1#32
  | 21 => 0x33CFDB34#32
  | 22 => 0xB3D21572#32
  | 23 => 0x33D4694B#32
  | 24 => 0xB3D6D7AE#32
  | 25 => 0x33D96196#32
  | 26 => 0xB3DC0810#32
  | 27 => 0x33DECC38#32
  | 28 => 0xB3E1AF3D#32
  | 29 => 0x33E4B25D#32
  | 30 => 0xB3E7D6EF#32
  | 31 => 0x33EB1E5A#32
  | 32 => 0xB3EE8A1F#32
  | 33 => 0x33F21BD6#32
  | 34 => 0xB3F5D532#32
  | 35 => 0x33F9B800#32
  | 36 => 0xB3FDC62E#32
  | 37 => 0x340100E3#32
  | 38 => 0xB403367C#32
  | 39 => 0x3405850C#32
  | 40 => 0xB407EDD1#32
  | 41 => 0x340A721F#32
  | 42 => 0xB40D1360#32
  | 43 => 0x340FD31A#32
  | 44 => 0xB412B2ED#32
  | 45 => 0x3415B495#32
  | 46 => 0xB418D9F0#32
  | 47 => 0x341C2500#32
  | 48 => 0xB41F97EA#32
  | 49 => 0x342334FF#32
  | 50 => 0xB426FEBD#32
  | 51 => 0x342AF7D2#32
  | 52 => 0xB42F2322#32
  | 53 => 0x343383CC#32
  | 54 => 0xB4381D32#32
  | 55 => 0x343CF2FA#32
  | 56 => 0xB4420919#32
  | 57 => 0x344763DA#32
  | 58 => 0xB44D07E6#32
  | 59 => 0x3452FA51#32
  | 60 => 0xB45940A1#32
  | 61 => 0x345FE0DA#32
  | 62 => 0xB466E193#32
  | 63 => 0x346E49FF#32
  | 64 => 0xB4762200#32
  | 65 => 0x347E723F#32
  | 66 => 0xB483A221#32
  | 67 => 0x34885143#32
  | 68 => 0xB48D4C4D#32
  | 69 => 0x349299A5#32
  | 70 => 0xB4984061#32
  | 71 => 0x349E485F#32
  | 72 => 0xB4A4BA5F#32
  | 73 => 0x34ABA023#32
  | 74 => 0xB4B30492#32
  | 75 => 0x34BAF3E5#32
  | 76 => 0xB4C37BD6#32
  | 77 => 0x34CCABDA#32
  | 78 => 0xB4D69568#32
  | 79 => 0x34E14C49#32
  | 80 => 0xB4ECE6F7#32
  | 81 => 0x34F97F13#32
  | 82 => 0xB50398F7#32
  | 83 => 0x350B1097#32
  | 84 => 0xB51339CD#32
  | 85 => 0x351C2B08#32
  | 86 => 0xB525FE56#32
  | 87 => 0x3530D21D#32
  | 88 => 0xB53CCA00#32
  | 89 => 0x354A0FF9#32
  | 90 => 0xB558D5BB#32
  | 91 => 0x35695670#32
  | 92 => 0xB57BD8F1#32
  | 93 => 0x3588594C#32
  | 94 => 0xB5942572#32
  | 95 => 0x35A19018#32
  | 96 => 0xB5B0E6EF#32
  | 97 => 0x35C28A3B#32
  | 98 => 0xB5D6F23A#32
  | 99 => 0x35EEB658#32
  | 100 => 0xB6054B76#32
  | 101 => 0x3615C529#32
  | 102 => 0xB6296767#32
  | 103 => 0x3641014B#32
  | 104 => 0xB65DA20C#32
  | 105 => 0x368056F2#32
  | 106 => 0xB695FBC4#32
  | 107 => 0x36B0ED61#32
  | 108 => 0xB6D29E9B#32
  | 109 => 0x36FFBDB2#32
  | 110 => 0xB692EE32#32
  | 111 => 0x391EBB1A#32
  | 112 => 0x3B12D0DF#32
  | 113 => 0x3CA0086D#32
  | 114 => 0x3DBAD58B#32
  | 115 => 0x3E6BB748#32
  | 116 => 0x3EA069FE#32
  | 117 => 0x3E6BB748#32
  | 118 => 0x3DBAD58B#32
  | 119 => 0x3CA0086D#32
  | 120 => 0x3B12D0DF#32
  | 121 => 0x391EBB1A#32
  | 122 => 0xB692EE32#32
  | 123 => 0x36FFBDB2#32
  | 124 => 0xB6D29E9B#32
  | 125 => 0x36B0ED61#32
  | 126 => 0xB695FBC4#32
  | 127 => 0x368056F2#32
  | _ => 0#32

noncomputable abbrev lit0t0_490 (i : Nat) : BitVec 32 := match i % 128 with
  | 0 => 0x368056F2#32
  | 1 => 0xB65DA20C#32
  | 2 => 0x3641014B#32
  | 3 => 0xB6296767#32
  | 4 => 0x3615C529#32
  | 5 => 0xB6054B76#32
  | 6 => 0x35EEB658#32
  | 7 => 0xB5D6F23A#32
  | 8 => 0x35C28A3B#32
  | 9 => 0xB5B0E6EF#32
  | 10 => 0x35A19018#32
  | 11 => 0xB5942572#32
  | 12 => 0x3588594C#32
  | 13 => 0xB57BD8F1#32
  | 14 => 0x35695670#32
  | 15 => 0xB558D5BB#32
  | 16 => 0x354A0FF9#32
  | 17 => 0xB53CCA00#32
  | 18 => 0x3530D21D#32
  | 19 => 0xB525FE56#32
  | 20 => 0x351C2B08#32
  | 21 => 0xB51339CD#32
  | 22 => 0x350B1097#32
  | 23 => 0xB50398F7#32
  | 24 => 0x34F97F13#32
  | 25 => 0xB4ECE6F7#32
  | 26 => 0x34E14C49#32
  | 27 => 0xB4D69568#32
  | 28 => 0x34CCABDA#32
  | 29 => 0xB4C37BD6#32
  | 30 => 0x34BAF3E5#32
  | 31 => 0xB4B30492#32
  | 32 => 0x34ABA023#32
  | 33 => 0xB4A4BA5F#32
  | 34 => 0x349E485F#32
  | 35 => 0xB4984061#32
  | 36 => 0x349299A5#32
  | 37 => 0xB48D4C4D#32
  | 38 => 0x34885143#32
  | 39 => 0xB483A221#32
  | 40 => 0x347E723F#32
  | 41 => 0xB4762200#32
  | 42 => 0x346E49FF#32
  | 43 => 0xB466E193#32
  | 44 => 0x345FE0DA#32
  | 45 => 0xB45940A1#32
  | 46 => 0x3452FA51#32
  | 47 => 0xB44D07E6#32
  | 48 => 0x344763DA#32
  | 49 => 0xB4420919#32
  | 50 => 0x343CF2FA#32
  | 51 => 0xB4381D32#32
  | 52 => 0x343383CC#32
  | 53 => 0xB42F2322#32
  | 54 => 0x342AF7D2#32
  | 55 => 0xB426FEBD#32
  | 56 => 0x342334FF#32
  | 57 => 0xB41F97EA#32
  | 58 => 0x341C2500#32
  | 59 => 0xB418D9F0#32
  | 60 => 0x3415B495#32
  | 61 => 0xB412B2ED#32
  | 62 => 0x340FD31A#32
  | 63 => 0xB40D1360#32
  | 64 => 0x340A721F#32
  | 65 => 0xB407EDD1#32
  | 66 => 0x3405850C#32
  | 67 => 0xB403367C#32
  | 68 => 0x340100E3#32
  | 69 => 0xB3FDC62E#32
  | 70 => 0x33F9B800#32
  | 71 => 0xB3F5D532#32
  | 72 => 0x33F21BD6#32
  | 73 => 0xB3EE8A1F#32
  | 74 => 0x33EB1E5A#32
  | 75 => 0xB3E7D6EF#32
  | 76 => 0x33E4B25D#32
  | 77 => 0xB3E1AF3D#32
  | 78 => 0x33DECC38#32
  | 79 => 0xB3DC0810#32
  | 80 => 0x33D96196#32
  | 81 => 0xB3D6D7AE#32
  | 82 => 0x33D4694B#32
  | 83 => 0xB3D21572#32
  | 84 => 0x33CFDB34#32
  | 85 => 0xB3CDB9B1#32
  | 86 => 0x33CBB015#32
  | 87 => 0xB3C9BD97#32
  | 88 => 0x33C7E17D#32
  | 89 => 0xB3C61B15#32
  | 90 => 0x33C469B8#32
  | 91 => 0xB3C2CCC7#32
  | 92 => 0x33C143B0#32
  | 93 => 0xB3BFCDE6#32
  | 94 => 0x33BE6AE7#32
  | 95 => 0xB3BD1A36#32
  | 96 => 0x33BBDB61#32
  | 97 => 0xB3BAADFB#32
  | 98 => 0x33B9919E#32
  | 99 => 0xB3B885EC#32
  | 100 => 0x33B78A8A#32
  | 101 => 0xB3B69F28#32
  | 102 => 0x33B5C377#32
  | 103 => 0xB3B4F732#32
  | 104 => 0x33B43A15#32
  | 105 => 0xB3B38BE5#32
  | 106 => 0x33B2EC6A#32
  | 107 => 0xB3B25B72#32
  | 108 => 0x33B1D8CF#32
  | 109 => 0xB3B16459#32
  | 110 => 0x33B0FDEA#32
  | 111 => 0xB3B0A563#32
  | 112 => 0x33B05AA9#32
  | 113 => 0xB3B01DA5#32
  | 114 => 0x33AFEE43#32
  | 115 => 0xB3AFCC75#32
  | 116 => 0x33AFB831#32
  | 117 => 0xB3AFB170#32
  | 118 => 0x33AFB831#32
  | 119 => 0xB3AFCC75#32
  | 120 => 0x33AFEE43#32
  | 121 => 0xB3B01DA5#32
  | 122 => 0x33B05AA9#32
  | 123 => 0xB3B0A563#32
  | 124 => 0x33B0FDEA#32
  | 125 => 0xB3B16459#32
  | 126 => 0x33B1D8CF#32
  | 127 => 0xB3B25B72#32
  | _ => 0#32

noncomputable abbrev lit0t0_491 (i : Nat) : BitVec 32 := match i % 128 with
  | 0 => 0x33B2EC6A#32
  | 1 => 0xB3B38BE5#32
  | 2 => 0x33B43A15#32
  | 3 => 0xB3B4F732#32
  | 4 => 0x33B5C377#32
  | 5 => 0xB3B69F28#32
  | 6 => 0x33B78A8A#32
  | 7 => 0xB3B885EC#32
  | 8 => 0x33B9919E#32
  | 9 => 0xB3BAADFB#32
  | 10 => 0x33BBDB61#32
  | 11 => 0xB3BD1A36#32
  | 12 => 0x33BE6AE7#32
  | 13 => 0xB3BFCDE6#32
  | 14 => 0x33C143B0#32
  | 15 => 0xB3C2CCC7#32
  | 16 => 0x33C469B8#32
  | 17 => 0xB3C61B15#32
  | 18 => 0x33C7E17D#32
  | 19 => 0xB3C9BD97#32
  | 20 => 0x33CBB015#32
  | 21 => 0xB3CDB9B1#32
  | 22 => 0x33CFDB34#32
  | 23 => 0xB3D21572#32
  | 24 => 0x33D4694B#32
  | 25 => 0xB3D6D7AE#32
  | 26 => 0x33D96196#32
  | 27 => 0xB3DC0810#32
  | 28 => 0x33DECC38#32
  | 29 => 0xB3E1AF3D#32
  | 30 => 0x33E4B25D#32
  | 31 => 0xB3E7D6EF#32
  | 32 => 0x33EB1E5A#32
  | 33 => 0xB3EE8A1F#32
  | 34 => 0x33F21BD6#32
  | 35 => 0xB3F5D532#32
  | 36 => 0x33F9B800#32
  | 37 => 0xB3FDC62E#32
  | 38 => 0x340100E3#32
  | 39 => 0xB403367C#32
  | 40 => 0x3405850C#32
  | 41 => 0xB407EDD1#32
  | 42 => 0x340A721F#32
  | 43 => 0xB40D1360#32
  | 44 => 0x340FD31A#32
  | 45 => 0xB412B2ED#32
  | 46 => 0x3415B495#32
  | 47 => 0xB418D9F0#32
  | 48 => 0x341C2500#32
  | 49 => 0xB41F97EA#32
  | 50 => 0x342334FF#32
  | 51 => 0xB426FEBD#32
  | 52 => 0x342AF7D2#32
  | 53 => 0xB42F2322#32
  | 54 => 0x343383CC#32
  | 55 => 0xB4381D32#32
  | 56 => 0x343CF2FA#32
  | 57 => 0xB4420919#32
  | 58 => 0x344763DA#32
  | 59 => 0xB44D07E6#32
  | 60 => 0x3452FA51#32
  | 61 => 0xB45940A1#32
  | 62 => 0x345FE0DA#32
  | 63 => 0xB466E193#32
  | 64 => 0x346E49FF#32
  | 65 => 0xB4762200#32
  | 66 => 0x347E723F#32
  | 67 => 0xB483A221#32
  | 68 => 0x34885142#32
  | 69 => 0xB48D4C4D#32
  | 70 => 0x349299A5#32
  | 71 => 0xB4984061#32
  | 72 => 0x349E485F#32
  | 73 => 0xB4A4BA5F#32
  | 74 => 0x34ABA023#32
  | 75 => 0xB4B30492#32
  | 76 => 0x34BAF3E5#32
  | 77 => 0xB4C37BD6#32
  | 78 => 0x34CCABDA#32
  | 79 => 0xB4D69568#32
  | 80 => 0x34E14C49#32
  | 81 => 0xB4ECE6F7#32
  | 82 => 0x34F97F13#32
  | 83 => 0xB50398F7#32
  | 84 => 0x350B1097#32
  | 85 => 0xB51339CD#32
  | 86 => 0x351C2B08#32
  | 87 => 0xB525FE56#32
  | 88 => 0x3530D21D#32
  | 89 => 0xB53CCA00#32
  | 90 => 0x354A0FF9#32
  | 91 => 0xB558D5BB#32
  | 92 => 0x35695670#32
  | 93 => 0xB57BD8F1#32
  | 94 => 0x3588594C#32
  | 95 => 0xB5942572#32
  | 96 => 0x35A19018#32
  | 97 => 0xB5B0E6EF#32
  | 98 => 0x35C28A3B#32
  | 99 => 0xB5D6F23A#32
  | 100 => 0x35EEB658#32
  | 101 => 0xB6054B76#32
  | 102 => 0x3615C529#32
  | 103 => 0xB6296767#32
  | 104 => 0x3641014B#32
  | 105 => 0xB65DA20C#32
  | 106 => 0x368056F2#32
  | 107 => 0xB695FBC4#32
  | 108 => 0x36B0ED61#32
  | 109 => 0xB6D29E9B#32
  | 110 => 0x36FFBDB2#32
  | 111 => 0xB692EE32#32
  | 112 => 0x391EBB1A#32
  | 113 => 0x3B12D0DF#32
  | 114 => 0x3CA0086D#32
  | 115 => 0x3DBAD58B#32
  | 116 => 0x3E6BB748#32
  | 117 => 0x3EA069FE#32
  | 118 => 0x3E6BB748#32
  | 119 => 0x3DBAD58B#32
  | 120 => 0x3CA0086D#32
  | 121 => 0x3B12D0DF#32
  | 122 => 0x391EBB1A#32
  | 123 => 0xB692EE32#32
  | 124 => 0x36FFBDB2#32
  | 125 => 0xB6D29E9B#32
  | 126 => 0x36B0ED61#32
  | 127 => 0xB695FBC4#32
  | _ => 0#32

noncomputable abbrev lit0t0_492 (i : Nat) : BitVec 32 := match i % 128 with
  | 0 => 0xB695FBC4#32
  | 1 => 0x368056F2#32
  | 2 => 0xB65DA20C#32
  | 3 => 0x3641014B#32
  | 4 => 0xB6296767#32
  | 5 => 0x3615C529#32
  | 6 => 0xB6054B76#32
  | 7 => 0x35EEB658#32
  | 8 => 0xB5D6F23A#32
  | 9 => 0x35C28A3B#32
  | 10 => 0xB5B0E6EF#32
  | 11 => 0x35A19018#32
  | 12 => 0xB5942572#32
  | 13 => 0x3588594C#32
  | 14 => 0xB57BD8F1#32
  | 15 => 0x35695670#32
  | 16 => 0xB558D5BB#32
  | 17 => 0x354A0FF9#32
  | 18 => 0xB53CCA00#32
  | 19 => 0x3530D21D#32
  | 20 => 0xB525FE56#32
  | 21 => 0x351C2B08#32
  | 22 => 0xB51339CD#32
  | 23 => 0x350B1097#32
  | 24 => 0xB50398F7#32
  | 25 => 0x34F97F13#32
  | 26 => 0xB4ECE6F7#32
  | 27 => 0x34E14C49#32
  | 28 => 0xB4D69568#32
  | 29 => 0x34CCABDA#32
  | 30 => 0xB4C37BD6#32
  | 31 => 0x34BAF3E5#32
  | 32 => 0xB4B30492#32
  | 33 => 0x34ABA023#32
  | 34 => 0xB4A4BA5F#32
  | 35 => 0x349E485F#32
  | 36 => 0xB4984061#32
  | 37 => 0x349299A5#32
  | 38 => 0xB48D4C4D#32
  | 39 => 0x34885143#32
  | 40 => 0xB483A221#32
  | 41 => 0x347E723F#32
  | 42 => 0xB4762200#32
  | 43 => 0x346E49FF#32
  | 44 => 0xB466E193#32
  | 45 => 0x345FE0DA#32
  | 46 => 0xB45940A1#32
  | 47 => 0x3452FA51#32
  | 48 => 0xB44D07E6#32
  | 49 => 0x344763DA#32
  | 50 => 0xB4420919#32
  | 51 => 0x343CF2FA#32
  | 52 => 0xB4381D32#32
  | 53 => 0x343383CC#32
  | 54 => 0xB42F2322#32
  | 55 => 0x342AF7D2#32
  | 56 => 0xB426FEBD#32
  | 57 => 0x342334FF#32
  | 58 => 0xB41F97EA#32
  | 59 => 0x341C2500#32
  | 60 => 0xB418D9F0#32
  | 61 => 0x3415B495#32
  | 62 => 0xB412B2ED#32
  | 63 => 0x340FD31A#32
  | 64 => 0xB40D1360#32
  | 65 => 0x340A721F#32
  | 66 => 0xB407EDD1#32
  | 67 => 0x3405850C#32
  | 68 => 0xB403367C#32
  | 69 => 0x340100E3#32
  | 70 => 0xB3FDC62E#32
  | 71 => 0x33F9B800#32
  | 72 => 0xB3F5D532#32
  | 73 => 0x33F21BD6#32
  | 74 => 0xB3EE8A1F#32
  | 75 => 0x33EB1E5A#32
  | 76 => 0xB3E7D6EF#32
  | 77 => 0x33E4B25D#32
  | 78 => 0xB3E1AF3D#32
  | 79 => 0x33DECC38#32
  | 80 => 0xB3DC0810#32
  | 81 => 0x33D96196#32
  | 82 => 0xB3D6D7AE#32
  | 83 => 0x33D4694B#32
  | 84 => 0xB3D21572#32
  | 85 => 0x33CFDB34#32
  | 86 => 0xB3CDB9B1#32
  | 87 => 0x33CBB015#32
  | 88 => 0xB3C9BD97#32
  | 89 => 0x33C7E17D#32
  | 90 => 0xB3C61B15#32
  | 91 => 0x33C469B8#32
  | 92 => 0xB3C2CCC7#32
  | 93 => 0x33C143B0#32
  | 94 => 0xB3BFCDE6#32
  | 95 => 0x33BE6AE7#32
  | 96 => 0xB3BD1A36#32
  | 97 => 0x33BBDB61#32
  | 98 => 0xB3BAADFB#32
  | 99 => 0x33B9919E#32
  | 100 => 0xB3B885EC#32
  | 101 => 0x33B78A8A#32
  | 102 => 0xB3B69F28#32
  | 103 => 0x33B5C377#32
  | 104 => 0xB3B4F732#32
  | 105 => 0x33B43A15#32
  | 106 => 0xB3B38BE5#32
  | 107 => 0x33B2EC6A#32
  | 108 => 0xB3B25B72#32
  | 109 => 0x33B1D8CF#32
  | 110 => 0xB3B16459#32
  | 111 => 0x33B0FDEA#32
  | 112 => 0xB3B0A563#32
  | 113 => 0x33B05AA9#32
  | 114 => 0xB3B01DA5#32
  | 115 => 0x33AFEE43#32
  | 116 => 0xB3AFCC75#32
  | 117 => 0x33AFB831#32
  | 118 => 0xB3AFB170#32
  | 119 => 0x33AFB831#32
  | 120 => 0xB3AFCC75#32
  | 121 => 0x33AFEE43#32
  | 122 => 0xB3B01DA5#32
  | 123 => 0x33B05AA9#32
  | 124 => 0xB3B0A563#32
  | 125 => 0x33B0FDEA#32
  | 126 => 0xB3B16459#32
  | 127 => 0x33B1D8CF#32
  | _ => 0#32

noncomputable abbrev lit0t0_493 (i : Nat) : BitVec 32 := match i % 128 with
  | 0 => 0xB3B25B72#32
  | 1 => 0x33B2EC6A#32
  | 2 => 0xB3B38BE5#32
  | 3 => 0x33B43A15#32
  | 4 => 0xB3B4F732#32
  | 5 => 0x33B5C377#32
  | 6 => 0xB3B69F28#32
  | 7 => 0x33B78A8A#32
  | 8 => 0xB3B885EC#32
  | 9 => 0x33B9919E#32
  | 10 => 0xB3BAADFB#32
  | 11 => 0x33BBDB61#32
  | 12 => 0xB3BD1A36#32
  | 13 => 0x33BE6AE7#32
  | 14 => 0xB3BFCDE6#32
  | 15 => 0x33C143B0#32
  | 16 => 0xB3C2CCC7#32
  | 17 => 0x33C469B8#32
  | 18 => 0xB3C61B15#32
  | 19 => 0x33C7E17D#32
  | 20 => 0xB3C9BD97#32
  | 21 => 0x33CBB015#32
  | 22 => 0xB3CDB9B1#32
  | 23 => 0x33CFDB34#32
  | 24 => 0xB3D21572#32
  | 25 => 0x33D4694B#32
  | 26 => 0xB3D6D7AE#32
  | 27 => 0x33D96196#32
  | 28 => 0xB3DC0810#32
  | 29 => 0x33DECC38#32
  | 30 => 0xB3E1AF3D#32
  | 31 => 0x33E4B25D#32
  | 32 => 0xB3E7D6EF#32
  | 33 => 0x33EB1E5A#32
  | 34 => 0xB3EE8A1F#32
  | 35 => 0x33F21BD6#32
  | 36 => 0xB3F5D532#32
  | 37 => 0x33F9B800#32
  | 38 => 0xB3FDC62E#32
  | 39 => 0x340100E3#32
  | 40 => 0xB403367C#32
  | 41 => 0x3405850C#32
  | 42 => 0xB407EDD1#32
  | 43 => 0x340A721F#32
  | 44 => 0xB40D1360#32
  | 45 => 0x340FD31A#32
  | 46 => 0xB412B2ED#32
  | 47 => 0x3415B495#32
  | 48 => 0xB418D9F0#32
  | 49 => 0x341C2500#32
  | 50 => 0xB41F97EA#32
  | 51 => 0x342334FF#32
  | 52 => 0xB426FEBD#32
  | 53 => 0x342AF7D2#32
  | 54 => 0xB42F2322#32
  | 55 => 0x343383CC#32
  | 56 => 0xB4381D32#32
  | 57 => 0x343CF2FA#32
  | 58 => 0xB4420919#32
  | 59 => 0x344763DA#32
  | 60 => 0xB44D07E6#32
  | 61 => 0x3452FA51#32
  | 62 => 0xB45940A1#32
  | 63 => 0x345FE0DA#32
  | 64 => 0xB466E193#32
  | 65 => 0x346E49FF#32
  | 66 => 0xB4762200#32
  | 67 => 0x347E723F#32
  | 68 => 0xB483A221#32
  | 69 => 0x34885143#32
  | 70 => 0xB48D4C4D#32
  | 71 => 0x349299A5#32
  | 72 => 0xB4984061#32
  | 73 => 0x349E485F#32
  | 74 => 0xB4A4BA5F#32
  | 75 => 0x34ABA023#32
  | 76 => 0xB4B30492#32
  | 77 => 0x34BAF3E5#32
  | 78 => 0xB4C37BD6#32
  | 79 => 0x34CCABDA#32
  | 80 => 0xB4D69568#32
  | 81 => 0x34E14C49#32
  | 82 => 0xB4ECE6F7#32
  | 83 => 0x34F97F13#32
  | 84 => 0xB50398F7#32
  | 85 => 0x350B1097#32
  | 86 => 0xB51339CD#32
  | 87 => 0x351C2B08#32
  | 88 => 0xB525FE56#32
  | 89 => 0x3530D21D#32
  | 90 => 0xB53CCA00#32
  | 91 => 0x354A0FF9#32
  | 92 => 0xB558D5BB#32
  | 93 => 0x35695670#32
  | 94 => 0xB57BD8F1#32
  | 95 => 0x3588594C#32
  | 96 => 0xB5942572#32
  | 97 => 0x35A19018#32
  | 98 => 0xB5B0E6EF#32
  | 99 => 0x35C28A3B#32
  | 100 => 0xB5D6F23A#32
  | 101 => 0x35EEB658#32
  | 102 => 0xB6054B76#32
  | 103 => 0x3615C529#32
  | 104 => 0xB6296767#32
  | 105 => 0x3641014B#32
  | 106 => 0xB65DA20C#32
  | 107 => 0x368056F2#32
  | 108 => 0xB695FBC4#32
  | 109 => 0x36B0ED61#32
  | 110 => 0xB6D29E9B#32
  | 111 => 0x36FFBDB2#32
  | 112 => 0xB692EE32#32
  | 113 => 0x391EBB1A#32
  | 114 => 0x3B12D0DF#32
  | 115 => 0x3CA0086D#32
  | 116 => 0x3DBAD58B#32
  | 117 => 0x3E6BB748#32
  | 118 => 0x3EA069FE#32
  | 119 => 0x3E6BB748#32
  | 120 => 0x3DBAD58B#32
  | 121 => 0x3CA0086D#32
  | 122 => 0x3B12D0DF#32
  | 123 => 0x391EBB1A#32
  | 124 => 0xB692EE32#32
  | 125 => 0x36FFBDB2#32
  | 126 => 0xB6D29E9B#32
  | 127 => 0x36B0ED61#32
  | _ => 0#32

noncomputable abbrev lit0t0_494 (i : Nat) : BitVec 32 := match i % 128 with
  | 0 => 0x36B0ED61#32
  | 1 => 0xB695FBC4#32
  | 2 => 0x368056F2#32
  | 3 => 0xB65DA20C#32
  | 4 => 0x3641014B#32
  | 5 => 0xB6296767#32
  | 6 => 0x3615C529#32
  | 7 => 0xB6054B76#32
  | 8 => 0x35EEB658#32
  | 9 => 0xB5D6F23A#32
  | 10 => 0x35C28A3B#32
  | 11 => 0xB5B0E6EF#32
  | 12 => 0x35A19018#32
  | 13 => 0xB5942572#32
  | 14 => 0x3588594C#32
  | 15 => 0xB57BD8F1#32
  | 16 => 0x35695670#32
  | 17 => 0xB558D5BB#32
  | 18 => 0x354A0FF9#32
  | 19 => 0xB53CCA00#32
  | 20 => 0x3530D21D#32
  | 21 => 0xB525FE56#32
  | 22 => 0x351C2B08#32
  | 23 => 0xB51339CD#32
  | 24 => 0x350B1097#32
  | 25 => 0xB50398F7#32
  | 26 => 0x34F97F13#32
  | 27 => 0xB4ECE6F7#32
  | 28 => 0x34E14C49#32
  | 29 => 0xB4D69568#32
  | 30 => 0x34CCABDA#32
  | 31 => 0xB4C37BD6#32
  | 32 => 0x34BAF3E5#32
  | 33 => 0xB4B30492#32
  | 34 => 0x34ABA023#32
  | 35 => 0xB4A4BA5F#32
  | 36 => 0x349E485F#32
  | 37 => 0xB4984061#32
  | 38 => 0x349299A5#32
  | 39 => 0xB48D4C4D#32
  | 40 => 0x34885143#32
  | 41 => 0xB483A221#32
  | 42 => 0x347E723F#32
  | 43 => 0xB4762200#32
  | 44 => 0x346E49FF#32
  | 45 => 0xB466E193#32
  | 46 => 0x345FE0DA#32
  | 47 => 0xB45940A1#32
  | 48 => 0x3452FA51#32
  | 49 => 0xB44D07E6#32
  | 50 => 0x344763DA#32
  | 51 => 0xB4420919#32
  | 52 => 0x343CF2FA#32
  | 53 => 0xB4381D32#32
  | 54 => 0x343383CC#32
  | 55 => 0xB42F2322#32
  | 56 => 0x342AF7D2#32
  | 57 => 0xB426FEBD#32
  | 58 => 0x342334FF#32
  | 59 => 0xB41F97EA#32
  | 60 => 0x341C2500#32
  | 61 => 0xB418D9F0#32
  | 62 => 0x3415B495#32
  | 63 => 0xB412B2ED#32
  | 64 => 0x340FD31A#32
  | 65 => 0xB40D1360#32
  | 66 => 0x340A721F#32
  | 67 => 0xB407EDD1#32
  | 68 => 0x3405850C#32
  | 69 => 0xB403367C#32
  | 70 => 0x340100E3#32
  | 71 => 0xB3FDC62E#32
  | 72 => 0x33F9B800#32
  | 73 => 0xB3F5D532#32
  | 74 => 0x33F21BD6#32
  | 75 => 0xB3EE8A1F#32
  | 76 => 0x33EB1E5A#32
  | 77 => 0xB3E7D6EF#32
  | 78 => 0x33E4B25D#32
  | 79 => 0xB3E1AF3D#32
  | 80 => 0x33DECC38#32
  | 81 => 0xB3DC0810#32
  | 82 => 0x33D96196#32
  | 83 => 0xB3D6D7AE#32
  | 84 => 0x33D4694B#32
  | 85 => 0xB3D21572#32
  | 86 => 0x33CFDB34#32
  | 87 => 0xB3CDB9B1#32
  | 88 => 0x33CBB015#32
  | 89 => 0xB3C9BD97#32
  | 90 => 0x33C7E17D#32
  | 91 => 0xB3C61B15#32
  | 92 => 0x33C469B8#32
  | 93 => 0xB3C2CCC7#32
  | 94 => 0x33C143B0#32
  | 95 => 0xB3BFCDE6#32
  | 96 => 0x33BE6AE7#32
  | 97 => 0xB3BD1A36#32
  | 98 => 0x33BBDB61#32
  | 99 => 0xB3BAADFB#32
  | 100 => 0x33B9919E#32
  | 101 => 0xB3B885EC#32
  | 102 => 0x33B78A8A#32
  | 103 => 0xB3B69F28#32
  | 104 => 0x33B5C377#32
  | 105 => 0xB3B4F732#32
  | 106 => 0x33B43A15#32
  | 107 => 0xB3B38BE5#32
  | 108 => 0x33B2EC6A#32
  | 109 => 0xB3B25B72#32
  | 110 => 0x33B1D8CF#32
  | 111 => 0xB3B16459#32
  | 112 => 0x33B0FDEA#32
  | 113 => 0xB3B0A563#32
  | 114 => 0x33B05AA9#32
  | 115 => 0xB3B01DA5#32
  | 116 => 0x33AFEE43#32
  | 117 => 0xB3AFCC75#32
  | 118 => 0x33AFB831#32
  | 119 => 0xB3AFB170#32
  | 120 => 0x33AFB831#32
  | 121 => 0xB3AFCC75#32
  | 122 => 0x33AFEE43#32
  | 123 => 0xB3B01DA5#32
  | 124 => 0x33B05AA9#32
  | 125 => 0xB3B0A563#32
  | 126 => 0x33B0FDEA#32
  | 127 => 0xB3B16459#32
  | _ => 0#32

noncomputable abbrev lit0t0_495 (i : Nat) : BitVec 32 := match i % 128 with
  | 0 => 0x33B1D8CF#32
  | 1 => 0xB3B25B72#32
  | 2 => 0x33B2EC6A#32
  | 3 => 0xB3B38BE5#32
  | 4 => 0x33B43A15#32
  | 5 => 0xB3B4F732#32
  | 6 => 0x33B5C377#32
  | 7 => 0xB3B69F28#32
  | 8 => 0x33B78A8A#32
  | 9 => 0xB3B885EC#32
  | 10 => 0x33B9919E#32
  | 11 => 0xB3BAADFB#32
  | 12 => 0x33BBDB61#32
  | 13 => 0xB3BD1A36#32
  | 14 => 0x33BE6AE7#32
  | 15 => 0xB3BFCDE6#32
  | 16 => 0x33C143B0#32
  | 17 => 0xB3C2CCC7#32
  | 18 => 0x33C469B8#32
  | 19 => 0xB3C61B15#32
  | 20 => 0x33C7E17D#32
  | 21 => 0xB3C9BD97#32
  | 22 => 0x33CBB015#32
  | 23 => 0xB3CDB9B1#32
  | 24 => 0x33CFDB34#32
  | 25 => 0xB3D21572#32
  | 26 => 0x33D4694B#32
  | 27 => 0xB3D6D7AE#32
  | 28 => 0x33D96196#32
  | 29 => 0xB3DC0810#32
  | 30 => 0x33DECC38#32
  | 31 => 0xB3E1AF3D#32
  | 32 => 0x33E4B25D#32
  | 33 => 0xB3E7D6EF#32
  | 34 => 0x33EB1E5A#32
  | 35 => 0xB3EE8A1F#32
  | 36 => 0x33F21BD6#32
  | 37 => 0xB3F5D532#32
  | 38 => 0x33F9B800#32
  | 39 => 0xB3FDC62E#32
  | 40 => 0x340100E3#32
  | 41 => 0xB403367C#32
  | 42 => 0x3405850C#32
  | 43 => 0xB407EDD1#32
  | 44 => 0x340A721F#32
  | 45 => 0xB40D1360#32
  | 46 => 0x340FD31A#32
  | 47 => 0xB412B2ED#32
  | 48 => 0x3415B495#32
  | 49 => 0xB418D9F0#32
  | 50 => 0x341C2500#32
  | 51 => 0xB41F97EA#32
  | 52 => 0x342334FF#32
  | 53 => 0xB426FEBD#32
  | 54 => 0x342AF7D2#32
  | 55 => 0xB42F2322#32
  | 56 => 0x343383CC#32
  | 57 => 0xB4381D32#32
  | 58 => 0x343CF2FA#32
  | 59 => 0xB4420919#32
  | 60 => 0x344763DA#32
  | 61 => 0xB44D07E6#32
  | 62 => 0x3452FA51#32
  | 63 => 0xB45940A1#32
  | 64 => 0x345FE0DA#32
  | 65 => 0xB466E193#32
  | 66 => 0x346E49FF#32
  | 67 => 0xB4762200#32
  | 68 => 0x347E723F#32
  | 69 => 0xB483A221#32
  | 70 => 0x34885143#32
  | 71 => 0xB48D4C4D#32
  | 72 => 0x349299A5#32
  | 73 => 0xB4984061#32
  | 74 => 0x349E485F#32
  | 75 => 0xB4A4BA5F#32
  | 76 => 0x34ABA023#32
  | 77 => 0xB4B30492#32
  | 78 => 0x34BAF3E5#32
  | 79 => 0xB4C37BD6#32
  | 80 => 0x34CCABDA#32
  | 81 => 0xB4D69568#32
  | 82 => 0x34E14C49#32
  | 83 => 0xB4ECE6F7#32
  | 84 => 0x34F97F13#32
  | 85 => 0xB50398F7#32
  | 86 => 0x350B1097#32
  | 87 => 0xB51339CD#32
  | 88 => 0x351C2B08#32
  | 89 => 0xB525FE56#32
  | 90 => 0x3530D21D#32
  | 91 => 0xB53CCA00#32
  | 92 => 0x354A0FF9#32
  | 93 => 0xB558D5BB#32
  | 94 => 0x35695670#32
  | 95 => 0xB57BD8F1#32
  | 96 => 0x3588594C#32
  | 97 => 0xB5942572#32
  | 98 => 0x35A19018#32
  | 99 => 0xB5B0E6EF#32
  | 100 => 0x35C28A3B#32
  | 101 => 0xB5D6F23A#32
  | 102 => 0x35EEB658#32
  | 103 => 0xB6054B76#32
  | 104 => 0x3615C529#32
  | 105 => 0xB6296767#32
  | 106 => 0x3641014B#32
  | 107 => 0xB65DA20C#32
  | 108 => 0x368056F2#32
  | 109 => 0xB695FBC4#32
  | 110 => 0x36B0ED61#32
  | 111 => 0xB6D29E9B#32
  | 112 => 0x36FFBDB2#32
  | 113 => 0xB692EE32#32
  | 114 => 0x391EBB1A#32
  | 115 => 0x3B12D0DF#32
  | 116 => 0x3CA0086D#32
  | 117 => 0x3DBAD58B#32
  | 118 => 0x3E6BB748#32
  | 119 => 0x3EA069FE#32
  | 120 => 0x3E6BB748#32
  | 121 => 0x3DBAD58B#32
  | 122 => 0x3CA0086D#32
  | 123 => 0x3B12D0DF#32
  | 124 => 0x391EBB1A#32
  | 125 => 0xB692EE32#32
  | 126 => 0x36FFBDB2#32
  | 127 => 0xB6D29E9B#32
  | _ => 0#32

noncomputable abbrev lit0t0_496 (i : Nat) : BitVec 32 := match i % 128 with
  | 0 => 0xB6D29E9B#32
  | 1 => 0x36B0ED61#32
  | 2 => 0xB695FBC4#32
  | 3 => 0x368056F2#32
  | 4 => 0xB65DA20C#32
  | 5 => 0x3641014B#32
  | 6 => 0xB6296767#32
  | 7 => 0x3615C529#32
  | 8 => 0xB6054B76#32
  | 9 => 0x35EEB658#32
  | 10 => 0xB5D6F23A#32
  | 11 => 0x35C28A3B#32
  | 12 => 0xB5B0E6EF#32
  | 13 => 0x35A19018#32
  | 14 => 0xB5942572#32
  | 15 => 0x3588594C#32
  | 16 => 0xB57BD8F1#32
  | 17 => 0x35695670#32
  | 18 => 0xB558D5BB#32
  | 19 => 0x354A0FF9#32
  | 20 => 0xB53CCA00#32
  | 21 => 0x3530D21D#32
  | 22 => 0xB525FE56#32
  | 23 => 0x351C2B08#32
  | 24 => 0xB51339CD#32
  | 25 => 0x350B1097#32
  | 26 => 0xB50398F7#32
  | 27 => 0x34F97F13#32
  | 28 => 0xB4ECE6F7#32
  | 29 => 0x34E14C49#32
  | 30 => 0xB4D69568#32
  | 31 => 0x34CCABDA#32
  | 32 => 0xB4C37BD6#32
  | 33 => 0x34BAF3E5#32
  | 34 => 0xB4B30492#32
  | 35 => 0x34ABA023#32
  | 36 => 0xB4A4BA5F#32
  | 37 => 0x349E485F#32
  | 38 => 0xB4984061#32
  | 39 => 0x349299A5#32
  | 40 => 0xB48D4C4D#32
  | 41 => 0x34885143#32
  | 42 => 0xB483A221#32
  | 43 => 0x347E723F#32
  | 44 => 0xB4762200#32
  | 45 => 0x346E49FF#32
  | 46 => 0xB466E193#32
  | 47 => 0x345FE0DA#32
  | 48 => 0xB45940A1#32
  | 49 => 0x3452FA51#32
  | 50 => 0xB44D07E6#32
  | 51 => 0x344763DA#32
  | 52 => 0xB4420919#32
  | 53 => 0x343CF2FA#32
  | 54 => 0xB4381D32#32
  | 55 => 0x343383CC#32
  | 56 => 0xB42F2322#32
  | 57 => 0x342AF7D2#32
  | 58 => 0xB426FEBD#32
  | 59 => 0x342334FF#32
  | 60 => 0xB41F97EA#32
  | 61 => 0x341C2500#32
  | 62 => 0xB418D9F0#32
  | 63 => 0x3415B495#32
  | 64 => 0xB412B2ED#32
  | 65 => 0x340FD31A#32
  | 66 => 0xB40D1360#32
  | 67 => 0x340A721F#32
  | 68 => 0xB407EDD1#32
  | 69 => 0x3405850C#32
  | 70 => 0xB403367C#32
  | 71 => 0x340100E3#32
  | 72 => 0xB3FDC62E#32
  | 73 => 0x33F9B800#32
  | 74 => 0xB3F5D532#32
  | 75 => 0x33F21BD6#32
  | 76 => 0xB3EE8A1F#32
  | 77 => 0x33EB1E5A#32
  | 78 => 0xB3E7D6EF#32
  | 79 => 0x33E4B25D#32
  | 80 => 0xB3E1AF3D#32
  | 81 => 0x33DECC38#32
  | 82 => 0xB3DC0810#32
  | 83 => 0x33D96196#32
  | 84 => 0xB3D6D7AE#32
  | 85 => 0x33D4694B#32
  | 86 => 0xB3D21572#32
  | 87 => 0x33CFDB34#32
  | 88 => 0xB3CDB9B1#32
  | 89 => 0x33CBB015#32
  | 90 => 0xB3C9BD97#32
  | 91 => 0x33C7E17D#32
  | 92 => 0xB3C61B15#32
  | 93 => 0x33C469B8#32
  | 94 => 0xB3C2CCC7#32
  | 95 => 0x33C143B0#32
  | 96 => 0xB3BFCDE6#32
  | 97 => 0x33BE6AE7#32
  | 98 => 0xB3BD1A36#32
  | 99 => 0x33BBDB61#32
  | 100 => 0xB3BAADFB#32
  | 101 => 0x33B9919E#32
  | 102 => 0xB3B885EC#32
  | 103 => 0x33B78A8A#32
  | 104 => 0xB3B69F28#32
  | 105 => 0x33B5C377#32
  | 106 => 0xB3B4F732#32
  | 107 => 0x33B43A15#32
  | 108 => 0xB3B38BE5#32
  | 109 => 0x33B2EC6A#32
  | 110 => 0xB3B25B72#32
  | 111 => 0x33B1D8CF#32
  | 112 => 0xB3B16459#32
  | 113 => 0x33B0FDEA#32
  | 114 => 0xB3B0A563#32
  | 115 => 0x33B05AA9#32
  | 116 => 0xB3B01DA5#32
  | 117 => 0x33AFEE43#32
  | 118 => 0xB3AFCC75#32
  | 119 => 0x33AFB831#32
  | 120 => 0xB3AFB170#32
  | 121 => 0x33AFB831#32
  | 122 => 0xB3AFCC75#32
  | 123 => 0x33AFEE43#32
  | 124 => 0xB3B01DA5#32
  | 125 => 0x33B05AA9#32
  | 126 => 0xB3B0A563#32
  | 127 => 0x33B0FDEA#32
  | _ => 0#32

noncomputable abbrev lit0t0_497 (i : Nat) : BitVec 32 := match i % 128 with
  | 0 => 0xB3B16459#32
  | 1 => 0x33B1D8CF#32
  | 2 => 0xB3B25B72#32
  | 3 => 0x33B2EC6A#32
  | 4 => 0xB3B38BE5#32
  | 5 => 0x33B43A15#32
  | 6 => 0xB3B4F732#32
  | 7 => 0x33B5C377#32
  | 8 => 0xB3B69F28#32
  | 9 => 0x33B78A8A#32
  | 10 => 0xB3B885EC#32
  | 11 => 0x33B9919E#32
  | 12 => 0xB3BAADFB#32
  | 13 => 0x33BBDB61#32
  | 14 => 0xB3BD1A36#32
  | 15 => 0x33BE6AE7#32
  | 16 => 0xB3BFCDE6#32
  | 17 => 0x33C143B0#32
  | 18 => 0xB3C2CCC7#32
  | 19 => 0x33C469B8#32
  | 20 => 0xB3C61B15#32
  | 21 => 0x33C7E17D#32
  | 22 => 0xB3C9BD97#32
  | 23 => 0x33CBB015#32
  | 24 => 0xB3CDB9B1#32
  | 25 => 0x33CFDB34#32
  | 26 => 0xB3D21572#32
  | 27 => 0x33D4694B#32
  | 28 => 0xB3D6D7AE#32
  | 29 => 0x33D96196#32
  | 30 => 0xB3DC0810#32
  | 31 => 0x33DECC38#32
  | 32 => 0xB3E1AF3D#32
  | 33 => 0x33E4B25D#32
  | 34 => 0xB3E7D6EF#32
  | 35 => 0x33EB1E5A#32
  | 36 => 0xB3EE8A1F#32
  | 37 => 0x33F21BD6#32
  | 38 => 0xB3F5D532#32
  | 39 => 0x33F9B800#32
  | 40 => 0xB3FDC62E#32
  | 41 => 0x340100E3#32
  | 42 => 0xB403367C#32
  | 43 => 0x3405850C#32
  | 44 => 0xB407EDD1#32
  | 45 => 0x340A721F#32
  | 46 => 0xB40D1360#32
  | 47 => 0x340FD31A#32
  | 48 => 0xB412B2ED#32
  | 49 => 0x3415B495#32
  | 50 => 0xB418D9F0#32
  | 51 => 0x341C2500#32
  | 52 => 0xB41F97EA#32
  | 53 => 0x342334FF#32
  | 54 => 0xB426FEBD#32
  | 55 => 0x342AF7D2#32
  | 56 => 0xB42F2322#32
  | 57 => 0x343383CC#32
  | 58 => 0xB4381D32#32
  | 59 => 0x343CF2FA#32
  | 60 => 0xB4420919#32
  | 61 => 0x344763DA#32
  | 62 => 0xB44D07E6#32
  | 63 => 0x3452FA51#32
  | 64 => 0xB45940A1#32
  | 65 => 0x345FE0DA#32
  | 66 => 0xB466E193#32
  | 67 => 0x346E49FF#32
  | 68 => 0xB4762200#32
  | 69 => 0x347E723F#32
  | 70 => 0xB483A221#32
  | 71 => 0x34885143#32
  | 72 => 0xB48D4C4D#32
  | 73 => 0x349299A5#32
  | 74 => 0xB4984061#32
  | 75 => 0x349E485F#32
  | 76 => 0xB4A4BA5F#32
  | 77 => 0x34ABA023#32
  | 78 => 0xB4B30492#32
  | 79 => 0x34BAF3E5#32
  | 80 => 0xB4C37BD6#32
  | 81 => 0x34CCABDA#32
  | 82 => 0xB4D69568#32
  | 83 => 0x34E14C49#32
  | 84 => 0xB4ECE6F7#32
  | 85 => 0x34F97F13#32
  | 86 => 0xB50398F7#32
  | 87 => 0x350B1097#32
  | 88 => 0xB51339CD#32
  | 89 => 0x351C2B08#32
  | 90 => 0xB525FE56#32
  | 91 => 0x3530D21D#32
  | 92 => 0xB53CCA00#32
  | 93 => 0x354A0FF9#32
  | 94 => 0xB558D5BB#32
  | 95 => 0x35695670#32
  | 96 => 0xB57BD8F1#32
  | 97 => 0x3588594C#32
  | 98 => 0xB5942572#32
  | 99 => 0x35A19018#32
  | 100 => 0xB5B0E6EF#32
  | 101 => 0x35C28A3B#32
  | 102 => 0xB5D6F23A#32
  | 103 => 0x35EEB658#32
  | 104 => 0xB6054B76#32
  | 105 => 0x3615C529#32
  | 106 => 0xB6296767#32
  | 107 => 0x3641014B#32
  | 108 => 0xB65DA20C#32
  | 109 => 0x368056F2#32
  | 110 => 0xB695FBC4#32
  | 111 => 0x36B0ED61#32
  | 112 => 0xB6D29E9B#32
  | 113 => 0x36FFBDB2#32
  | 114 => 0xB692EE32#32
  | 115 => 0x391EBB1A#32
  | 116 => 0x3B12D0DF#32
  | 117 => 0x3CA0086D#32
  | 118 => 0x3DBAD58B#32
  | 119 => 0x3E6BB748#32
  | 120 => 0x3EA069FE#32
  | 121 => 0x3E6BB748#32
  | 122 => 0x3DBAD58B#32
  | 123 => 0x3CA0086D#32
  | 124 => 0x3B12D0DF#32
  | 125 => 0x391EBB1A#32
  | 126 => 0xB692EE32#32
  | 127 => 0x36FFBDB2#32
  | _ => 0#32

noncomputable abbrev lit0t0_498 (i : Nat) : BitVec 32 := match i % 128 with
  | 0 => 0x36FFBDB2#32
  | 1 => 0xB6D29E9B#32
  | 2 => 0x36B0ED61#32
  | 3 => 0xB695FBC4#32
  | 4 => 0x368056F2#32
  | 5 => 0xB65DA20C#32
  | 6 => 0x3641014B#32
  | 7 => 0xB6296767#32
  | 8 => 0x3615C529#32
  | 9 => 0xB6054B76#32
  | 10 => 0x35EEB658#32
  | 11 => 0xB5D6F23A#32
  | 12 => 0x35C28A3B#32
  | 13 => 0xB5B0E6EF#32
  | 14 => 0x35A19018#32
  | 15 => 0xB5942572#32
  | 16 => 0x3588594C#32
  | 17 => 0xB57BD8F1#32
  | 18 => 0x35695670#32
  | 19 => 0xB558D5BB#32
  | 20 => 0x354A0FF9#32
  | 21 => 0xB53CCA00#32
  | 22 => 0x3530D21D#32
  | 23 => 0xB525FE56#32
  | 24 => 0x351C2B08#32
  | 25 => 0xB51339CD#32
  | 26 => 0x350B1097#32
  | 27 => 0xB50398F7#32
  | 28 => 0x34F97F13#32
  | 29 => 0xB4ECE6F7#32
  | 30 => 0x34E14C49#32
  | 31 => 0xB4D69568#32
  | 32 => 0x34CCABDA#32
  | 33 => 0xB4C37BD6#32
  | 34 => 0x34BAF3E5#32
  | 35 => 0xB4B30492#32
  | 36 => 0x34ABA023#32
  | 37 => 0xB4A4BA5F#32
  | 38 => 0x349E485F#32
  | 39 => 0xB4984061#32
  | 40 => 0x349299A5#32
  | 41 => 0xB48D4C4D#32
  | 42 => 0x34885143#32
  | 43 => 0xB483A221#32
  | 44 => 0x347E723F#32
  | 45 => 0xB4762200#32
  | 46 => 0x346E49FF#32
  | 47 => 0xB466E193#32
  | 48 => 0x345FE0DA#32
  | 49 => 0xB45940A1#32
  | 50 => 0x3452FA51#32
  | 51 => 0xB44D07E6#32
  | 52 => 0x344763DA#32
  | 53 => 0xB4420919#32
  | 54 => 0x343CF2FA#32
  | 55 => 0xB4381D32#32
  | 56 => 0x343383CC#32
  | 57 => 0xB42F2322#32
  | 58 => 0x342AF7D2#32
  | 59 => 0xB426FEBD#32
  | 60 => 0x342334FF#32
  | 61 => 0xB41F97EA#32
  | 62 => 0x341C2500#32
  | 63 => 0xB418D9F0#32
  | 64 => 0x3415B495#32
  | 65 => 0xB412B2ED#32
  | 66 => 0x340FD31A#32
  | 67 => 0xB40D1360#32
  | 68 => 0x340A721F#32
  | 69 => 0xB407EDD1#32
  | 70 => 0x3405850C#32
  | 71 => 0xB403367C#32
  | 72 => 0x340100E3#32
  | 73 => 0xB3FDC62E#32
  | 74 => 0x33F9B800#32
  | 75 => 0xB3F5D532#32
  | 76 => 0x33F21BD6#32
  | 77 => 0xB3EE8A1F#32
  | 78 => 0x33EB1E5A#32
  | 79 => 0xB3E7D6EF#32
  | 80 => 0x33E4B25D#32
  | 81 => 0xB3E1AF3D#32
  | 82 => 0x33DECC38#32
  | 83 => 0xB3DC0810#32
  | 84 => 0x33D96196#32
  | 85 => 0xB3D6D7AE#32
  | 86 => 0x33D4694B#32
  | 87 => 0xB3D21572#32
  | 88 => 0x33CFDB34#32
  | 89 => 0xB3CDB9B1#32
  | 90 => 0x33CBB015#32
  | 91 => 0xB3C9BD97#32
  | 92 => 0x33C7E17D#32
  | 93 => 0xB3C61B15#32
  | 94 => 0x33C469B8#32
  | 95 => 0xB3C2CCC7#32
  | 96 => 0x33C143B0#32
  | 97 => 0xB3BFCDE6#32
  | 98 => 0x33BE6AE7#32
  | 99 => 0xB3BD1A36#32
  | 100 => 0x33BBDB61#32
  | 101 => 0xB3BAADFB#32
  | 102 => 0x33B9919E#32
  | 103 => 0xB3B885EC#32
  | 104 => 0x33B78A8A#32
  | 105 => 0xB3B69F28#32
  | 106 => 0x33B5C377#32
  | 107 => 0xB3B4F732#32
  | 108 => 0x33B43A15#32
  | 109 => 0xB3B38BE5#32
  | 110 => 0x33B2EC6A#32
  | 111 => 0xB3B25B72#32
  | 112 => 0x33B1D8CF#32
  | 113 => 0xB3B16459#32
  | 114 => 0x33B0FDEA#32
  | 115 => 0xB3B0A563#32
  | 116 => 0x33B05AA9#32
  | 117 => 0xB3B01DA5#32
  | 118 => 0x33AFEE43#32
  | 119 => 0xB3AFCC75#32
  | 120 => 0x33AFB831#32
  | 121 => 0xB3AFB170#32
  | 122 => 0x33AFB831#32
  | 123 => 0xB3AFCC75#32
  | 124 => 0x33AFEE43#32
  | 125 => 0xB3B01DA5#32
  | 126 => 0x33B05AA9#32
  | 127 => 0xB3B0A563#32
  | _ => 0#32

noncomputable abbrev lit0t0_499 (i : Nat) : BitVec 32 := match i % 128 with
  | 0 => 0x33B0FDEA#32
  | 1 => 0xB3B16459#32
  | 2 => 0x33B1D8CF#32
  | 3 => 0xB3B25B72#32
  | 4 => 0x33B2EC6A#32
  | 5 => 0xB3B38BE5#32
  | 6 => 0x33B43A15#32
  | 7 => 0xB3B4F732#32
  | 8 => 0x33B5C377#32
  | 9 => 0xB3B69F28#32
  | 10 => 0x33B78A8A#32
  | 11 => 0xB3B885EC#32
  | 12 => 0x33B9919E#32
  | 13 => 0xB3BAADFB#32
  | 14 => 0x33BBDB61#32
  | 15 => 0xB3BD1A36#32
  | 16 => 0x33BE6AE7#32
  | 17 => 0xB3BFCDE6#32
  | 18 => 0x33C143B0#32
  | 19 => 0xB3C2CCC7#32
  | 20 => 0x33C469B8#32
  | 21 => 0xB3C61B15#32
  | 22 => 0x33C7E17D#32
  | 23 => 0xB3C9BD97#32
  | 24 => 0x33CBB015#32
  | 25 => 0xB3CDB9B1#32
  | 26 => 0x33CFDB34#32
  | 27 => 0xB3D21572#32
  | 28 => 0x33D4694B#32
  | 29 => 0xB3D6D7AE#32
  | 30 => 0x33D96196#32
  | 31 => 0xB3DC0810#32
  | 32 => 0x33DECC38#32
  | 33 => 0xB3E1AF3D#32
  | 34 => 0x33E4B25D#32
  | 35 => 0xB3E7D6EF#32
  | 36 => 0x33EB1E5A#32
  | 37 => 0xB3EE8A1F#32
  | 38 => 0x33F21BD6#32
  | 39 => 0xB3F5D532#32
  | 40 => 0x33F9B800#32
  | 41 => 0xB3FDC62E#32
  | 42 => 0x340100E3#32
  | 43 => 0xB403367C#32
  | 44 => 0x3405850C#32
  | 45 => 0xB407EDD1#32
  | 46 => 0x340A721F#32
  | 47 => 0xB40D1360#32
  | 48 => 0x340FD31A#32
  | 49 => 0xB412B2ED#32
  | 50 => 0x3415B495#32
  | 51 => 0xB418D9F0#32
  | 52 => 0x341C2500#32
  | 53 => 0xB41F97EA#32
  | 54 => 0x342334FF#32
  | 55 => 0xB426FEBD#32
  | 56 => 0x342AF7D2#32
  | 57 => 0xB42F2322#32
  | 58 => 0x343383CC#32
  | 59 => 0xB4381D32#32
  | 60 => 0x343CF2FA#32
  | 61 => 0xB4420919#32
  | 62 => 0x344763DA#32
  | 63 => 0xB44D07E6#32
  | 64 => 0x3452FA51#32
  | 65 => 0xB45940A1#32
  | 66 => 0x345FE0DA#32
  | 67 => 0xB466E193#32
  | 68 => 0x346E49FF#32
  | 69 => 0xB4762200#32
  | 70 => 0x347E723F#32
  | 71 => 0xB483A221#32
  | 72 => 0x34885143#32
  | 73 => 0xB48D4C4D#32
  | 74 => 0x349299A5#32
  | 75 => 0xB4984061#32
  | 76 => 0x349E485F#32
  | 77 => 0xB4A4BA5F#32
  | 78 => 0x34ABA023#32
  | 79 => 0xB4B30492#32
  | 80 => 0x34BAF3E5#32
  | 81 => 0xB4C37BD6#32
  | 82 => 0x34CCABDA#32
  | 83 => 0xB4D69568#32
  | 84 => 0x34E14C49#32
  | 85 => 0xB4ECE6F7#32
  | 86 => 0x34F97F13#32
  | 87 => 0xB50398F7#32
  | 88 => 0x350B1097#32
  | 89 => 0xB51339CD#32
  | 90 => 0x351C2B08#32
  | 91 => 0xB525FE56#32
  | 92 => 0x3530D21D#32
  | 93 => 0xB53CCA00#32
  | 94 => 0x354A0FF9#32
  | 95 => 0xB558D5BB#32
  | 96 => 0x35695670#32
  | 97 => 0xB57BD8F1#32
  | 98 => 0x3588594C#32
  | 99 => 0xB5942572#32
  | 100 => 0x35A19018#32
  | 101 => 0xB5B0E6EF#32
  | 102 => 0x35C28A3B#32
  | 103 => 0xB5D6F23A#32
  | 104 => 0x35EEB658#32
  | 105 => 0xB6054B76#32
  | 106 => 0x3615C529#32
  | 107 => 0xB6296767#32
  | 108 => 0x3641014B#32
  | 109 => 0xB65DA20C#32
  | 110 => 0x368056F2#32
  | 111 => 0xB695FBC4#32
  | 112 => 0x36B0ED61#32
  | 113 => 0xB6D29E9B#32
  | 114 => 0x36FFBDB2#32
  | 115 => 0xB692EE32#32
  | 116 => 0x391EBB1A#32
  | 117 => 0x3B12D0DF#32
  | 118 => 0x3CA0086D#32
  | 119 => 0x3DBAD58B#32
  | 120 => 0x3E6BB748#32
  | 121 => 0x3EA069FE#32
  | 122 => 0x3E6BB748#32
  | 123 => 0x3DBAD58B#32
  | 124 => 0x3CA0086D#32
  | 125 => 0x3B12D0DF#32
  | 126 => 0x391EBB1A#32
  | 127 => 0xB692EE32#32
  | _ => 0#32

noncomputable abbrev lit0t0_500 (i : Nat) : BitVec 32 := match i % 128 with
  | 0 => 0xB692EE32#32
  | 1 => 0x36FFBDB2#32
  | 2 => 0xB6D29E9B#32
  | 3 => 0x36B0ED61#32
  | 4 => 0xB695FBC4#32
  | 5 => 0x368056F2#32
  | 6 => 0xB65DA20C#32
  | 7 => 0x3641014B#32
  | 8 => 0xB6296767#32
  | 9 => 0x3615C529#32
  | 10 => 0xB6054B76#32
  | 11 => 0x35EEB658#32
  | 12 => 0xB5D6F23A#32
  | 13 => 0x35C28A3B#32
  | 14 => 0xB5B0E6EF#32
  | 15 => 0x35A19018#32
  | 16 => 0xB5942572#32
  | 17 => 0x3588594C#32
  | 18 => 0xB57BD8F1#32
  | 19 => 0x35695670#32
  | 20 => 0xB558D5BB#32
  | 21 => 0x354A0FF9#32
  | 22 => 0xB53CCA00#32
  | 23 => 0x3530D21D#32
  | 24 => 0xB525FE56#32
  | 25 => 0x351C2B08#32
  | 26 => 0xB51339CD#32
  | 27 => 0x350B1097#32
  | 28 => 0xB50398F7#32
  | 29 => 0x34F97F13#32
  | 30 => 0xB4ECE6F7#32
  | 31 => 0x34E14C49#32
  | 32 => 0xB4D69568#32
  | 33 => 0x34CCABDA#32
  | 34 => 0xB4C37BD6#32
  | 35 => 0x34BAF3E5#32
  | 36 => 0xB4B30492#32
  | 37 => 0x34ABA023#32
  | 38 => 0xB4A4BA5F#32
  | 39 => 0x349E485F#32
  | 40 => 0xB4984061#32
  | 41 => 0x349299A5#32
  | 42 => 0xB48D4C4D#32
  | 43 => 0x34885143#32
  | 44 => 0xB483A221#32
  | 45 => 0x347E723F#32
  | 46 => 0xB4762200#32
  | 47 => 0x346E49FF#32
  | 48 => 0xB466E193#32
  | 49 => 0x345FE0DA#32
  | 50 => 0xB45940A1#32
  | 51 => 0x3452FA51#32
  | 52 => 0xB44D07E6#32
  | 53 => 0x344763DA#32
  | 54 => 0xB4420919#32
  | 55 => 0x343CF2FA#32
  | 56 => 0xB4381D32#32
  | 57 => 0x343383CC#32
  | 58 => 0xB42F2322#32
  | 59 => 0x342AF7D2#32
  | 60 => 0xB426FEBD#32
  | 61 => 0x342334FF#32
  | 62 => 0xB41F97EA#32
  | 63 => 0x341C2500#32
  | 64 => 0xB418D9F0#32
  | 65 => 0x3415B495#32
  | 66 => 0xB412B2ED#32
  | 67 => 0x340FD31A#32
  | 68 => 0xB40D1360#32
  | 69 => 0x340A721F#32
  | 70 => 0xB407EDD1#32
  | 71 => 0x3405850C#32
  | 72 => 0xB403367C#32
  | 73 => 0x340100E3#32
  | 74 => 0xB3FDC62E#32
  | 75 => 0x33F9B800#32
  | 76 => 0xB3F5D532#32
  | 77 => 0x33F21BD6#32
  | 78 => 0xB3EE8A1F#32
  | 79 => 0x33EB1E5A#32
  | 80 => 0xB3E7D6EF#32
  | 81 => 0x33E4B25D#32
  | 82 => 0xB3E1AF3D#32
  | 83 => 0x33DECC38#32
  | 84 => 0xB3DC0810#32
  | 85 => 0x33D96196#32
  | 86 => 0xB3D6D7AE#32
  | 87 => 0x33D4694B#32
  | 88 => 0xB3D21572#32
  | 89 => 0x33CFDB34#32
  | 90 => 0xB3CDB9B1#32
  | 91 => 0x33CBB015#32
  | 92 => 0xB3C9BD97#32
  | 93 => 0x33C7E17D#32
  | 94 => 0xB3C61B15#32
  | 95 => 0x33C469B8#32
  | 96 => 0xB3C2CCC7#32
  | 97 => 0x33C143B0#32
  | 98 => 0xB3BFCDE6#32
  | 99 => 0x33BE6AE7#32
  | 100 => 0xB3BD1A36#32
  | 101 => 0x33BBDB61#32
  | 102 => 0xB3BAADFB#32
  | 103 => 0x33B9919E#32
  | 104 => 0xB3B885EC#32
  | 105 => 0x33B78A8A#32
  | 106 => 0xB3B69F28#32
  | 107 => 0x33B5C377#32
  | 108 => 0xB3B4F732#32
  | 109 => 0x33B43A15#32
  | 110 => 0xB3B38BE5#32
  | 111 => 0x33B2EC6A#32
  | 112 => 0xB3B25B72#32
  | 113 => 0x33B1D8CF#32
  | 114 => 0xB3B16459#32
  | 115 => 0x33B0FDEA#32
  | 116 => 0xB3B0A563#32
  | 117 => 0x33B05AA9#32
  | 118 => 0xB3B01DA5#32
  | 119 => 0x33AFEE43#32
  | 120 => 0xB3AFCC75#32
  | 121 => 0x33AFB831#32
  | 122 => 0xB3AFB170#32
  | 123 => 0x33AFB831#32
  | 124 => 0xB3AFCC75#32
  | 125 => 0x33AFEE43#32
  | 126 => 0xB3B01DA5#32
  | 127 => 0x33B05AA9#32
  | _ => 0#32

noncomputable abbrev lit0t0_501 (i : Nat) : BitVec 32 := match i % 128 with
  | 0 => 0xB3B0A563#32
  | 1 => 0x33B0FDEA#32
  | 2 => 0xB3B16459#32
  | 3 => 0x33B1D8CF#32
  | 4 => 0xB3B25B72#32
  | 5 => 0x33B2EC6A#32
  | 6 => 0xB3B38BE5#32
  | 7 => 0x33B43A15#32
  | 8 => 0xB3B4F732#32
  | 9 => 0x33B5C377#32
  | 10 => 0xB3B69F28#32
  | 11 => 0x33B78A8A#32
  | 12 => 0xB3B885EC#32
  | 13 => 0x33B9919E#32
  | 14 => 0xB3BAADFB#32
  | 15 => 0x33BBDB61#32
  | 16 => 0xB3BD1A36#32
  | 17 => 0x33BE6AE7#32
  | 18 => 0xB3BFCDE6#32
  | 19 => 0x33C143B0#32
  | 20 => 0xB3C2CCC7#32
  | 21 => 0x33C469B8#32
  | 22 => 0xB3C61B15#32
  | 23 => 0x33C7E17D#32
  | 24 => 0xB3C9BD97#32
  | 25 => 0x33CBB015#32
  | 26 => 0xB3CDB9B1#32
  | 27 => 0x33CFDB34#32
  | 28 => 0xB3D21572#32
  | 29 => 0x33D4694B#32
  | 30 => 0xB3D6D7AE#32
  | 31 => 0x33D96196#32
  | 32 => 0xB3DC0810#32
  | 33 => 0x33DECC38#32
  | 34 => 0xB3E1AF3D#32
  | 35 => 0x33E4B25D#32
  | 36 => 0xB3E7D6EF#32
  | 37 => 0x33EB1E5A#32
  | 38 => 0xB3EE8A1F#32
  | 39 => 0x33F21BD6#32
  | 40 => 0xB3F5D532#32
  | 41 => 0x33F9B800#32
  | 42 => 0xB3FDC62E#32
  | 43 => 0x340100E3#32
  | 44 => 0xB403367C#32
  | 45 => 0x3405850C#32
  | 46 => 0xB407EDD1#32
  | 47 => 0x340A721F#32
  | 48 => 0xB40D1360#32
  | 49 => 0x340FD31A#32
  | 50 => 0xB412B2ED#32
  | 51 => 0x3415B495#32
  | 52 => 0xB418D9F0#32
  | 53 => 0x341C2500#32
  | 54 => 0xB41F97EA#32
  | 55 => 0x342334FF#32
  | 56 => 0xB426FEBD#32
  | 57 => 0x342AF7D2#32
  | 58 => 0xB42F2322#32
  | 59 => 0x343383CC#32
  | 60 => 0xB4381D32#32
  | 61 => 0x343CF2FA#32
  | 62 => 0xB4420919#32
  | 63 => 0x344763DA#32
  | 64 => 0xB44D07E6#32
  | 65 => 0x3452FA51#32
  | 66 => 0xB45940A1#32
  | 67 => 0x345FE0DA#32
  | 68 => 0xB466E193#32
  | 69 => 0x346E49FF#32
  | 70 => 0xB4762200#32
  | 71 => 0x347E723F#32
  | 72 => 0xB483A221#32
  | 73 => 0x34885143#32
  | 74 => 0xB48D4C4D#32
  | 75 => 0x349299A5#32
  | 76 => 0xB4984061#32
  | 77 => 0x349E485F#32
  | 78 => 0xB4A4BA5F#32
  | 79 => 0x34ABA023#32
  | 80 => 0xB4B30492#32
  | 81 => 0x34BAF3E5#32
  | 82 => 0xB4C37BD6#32
  | 83 => 0x34CCABDA#32
  | 84 => 0xB4D69568#32
  | 85 => 0x34E14C49#32
  | 86 => 0xB4ECE6F7#32
  | 87 => 0x34F97F13#32
  | 88 => 0xB50398F7#32
  | 89 => 0x350B1097#32
  | 90 => 0xB51339CD#32
  | 91 => 0x351C2B08#32
  | 92 => 0xB525FE56#32
  | 93 => 0x3530D21D#32
  | 94 => 0xB53CCA00#32
  | 95 => 0x354A0FF9#32
  | 96 => 0xB558D5BB#32
  | 97 => 0x35695670#32
  | 98 => 0xB57BD8F1#32
  | 99 => 0x3588594C#32
  | 100 => 0xB5942572#32
  | 101 => 0x35A19018#32
  | 102 => 0xB5B0E6EF#32
  | 103 => 0x35C28A3B#32
  | 104 => 0xB5D6F23A#32
  | 105 => 0x35EEB658#32
  | 106 => 0xB6054B76#32
  | 107 => 0x3615C529#32
  | 108 => 0xB6296767#32
  | 109 => 0x3641014B#32
  | 110 => 0xB65DA20C#32
  | 111 => 0x368056F2#32
  | 112 => 0xB695FBC4#32
  | 113 => 0x36B0ED61#32
  | 114 => 0xB6D29E9B#32
  | 115 => 0x36FFBDB2#32
  | 116 => 0xB692EE32#32
  | 117 => 0x391EBB1A#32
  | 118 => 0x3B12D0DF#32
  | 119 => 0x3CA0086D#32
  | 120 => 0x3DBAD58B#32
  | 121 => 0x3E6BB748#32
  | 122 => 0x3EA069FE#32
  | 123 => 0x3E6BB748#32
  | 124 => 0x3DBAD58B#32
  | 125 => 0x3CA0086D#32
  | 126 => 0x3B12D0DF#32
  | 127 => 0x391EBB1A#32
  | _ => 0#32

noncomputable abbrev lit0t0_502 (i : Nat) : BitVec 32 := match i % 128 with
  | 0 => 0x391EBB1A#32
  | 1 => 0xB692EE32#32
  | 2 => 0x36FFBDB2#32
  | 3 => 0xB6D29E9B#32
  | 4 => 0x36B0ED61#32
  | 5 => 0xB695FBC4#32
  | 6 => 0x368056F2#32
  | 7 => 0xB65DA20C#32
  | 8 => 0x3641014B#32
  | 9 => 0xB6296767#32
  | 10 => 0x3615C529#32
  | 11 => 0xB6054B76#32
  | 12 => 0x35EEB658#32
  | 13 => 0xB5D6F23A#32
  | 14 => 0x35C28A3B#32
  | 15 => 0xB5B0E6EF#32
  | 16 => 0x35A19018#32
  | 17 => 0xB5942572#32
  | 18 => 0x3588594C#32
  | 19 => 0xB57BD8F1#32
  | 20 => 0x35695670#32
  | 21 => 0xB558D5BB#32
  | 22 => 0x354A0FF9#32
  | 23 => 0xB53CCA00#32
  | 24 => 0x3530D21D#32
  | 25 => 0xB525FE56#32
  | 26 => 0x351C2B08#32
  | 27 => 0xB51339CD#32
  | 28 => 0x350B1097#32
  | 29 => 0xB50398F7#32
  | 30 => 0x34F97F13#32
  | 31 => 0xB4ECE6F7#32
  | 32 => 0x34E14C49#32
  | 33 => 0xB4D69568#32
  | 34 => 0x34CCABDA#32
  | 35 => 0xB4C37BD6#32
  | 36 => 0x34BAF3E5#32
  | 37 => 0xB4B30492#32
  | 38 => 0x34ABA023#32
  | 39 => 0xB4A4BA5F#32
  | 40 => 0x349E485F#32
  | 41 => 0xB4984061#32
  | 42 => 0x349299A5#32
  | 43 => 0xB48D4C4D#32
  | 44 => 0x34885142#32
  | 45 => 0xB483A221#32
  | 46 => 0x347E723F#32
  | 47 => 0xB4762200#32
  | 48 => 0x346E49FF#32
  | 49 => 0xB466E193#32
  | 50 => 0x345FE0DA#32
  | 51 => 0xB45940A1#32
  | 52 => 0x3452FA51#32
  | 53 => 0xB44D07E6#32
  | 54 => 0x344763DA#32
  | 55 => 0xB4420919#32
  | 56 => 0x343CF2FA#32
  | 57 => 0xB4381D32#32
  | 58 => 0x343383CC#32
  | 59 => 0xB42F2322#32
  | 60 => 0x342AF7D2#32
  | 61 => 0xB426FEBD#32
  | 62 => 0x342334FF#32
  | 63 => 0xB41F97EA#32
  | 64 => 0x341C2500#32
  | 65 => 0xB418D9F0#32
  | 66 => 0x3415B495#32
  | 67 => 0xB412B2ED#32
  | 68 => 0x340FD31A#32
  | 69 => 0xB40D1360#32
  | 70 => 0x340A721F#32
  | 71 => 0xB407EDD1#32
  | 72 => 0x3405850C#32
  | 73 => 0xB403367C#32
  | 74 => 0x340100E3#32
  | 75 => 0xB3FDC62E#32
  | 76 => 0x33F9B800#32
  | 77 => 0xB3F5D532#32
  | 78 => 0x33F21BD6#32
  | 79 => 0xB3EE8A1F#32
  | 80 => 0x33EB1E5A#32
  | 81 => 0xB3E7D6EF#32
  | 82 => 0x33E4B25D#32
  | 83 => 0xB3E1AF3D#32
  | 84 => 0x33DECC38#32
  | 85 => 0xB3DC0810#32
  | 86 => 0x33D96196#32
  | 87 => 0xB3D6D7AE#32
  | 88 => 0x33D4694B#32
  | 89 => 0xB3D21572#32
  | 90 => 0x33CFDB34#32
  | 91 => 0xB3CDB9B1#32
  | 92 => 0x33CBB015#32
  | 93 => 0xB3C9BD97#32
  | 94 => 0x33C7E17D#32
  | 95 => 0xB3C61B15#32
  | 96 => 0x33C469B8#32
  | 97 => 0xB3C2CCC7#32
  | 98 => 0x33C143B0#32
  | 99 => 0xB3BFCDE6#32
  | 100 => 0x33BE6AE7#32
  | 101 => 0xB3BD1A36#32
  | 102 => 0x33BBDB61#32
  | 103 => 0xB3BAADFB#32
  | 104 => 0x33B9919E#32
  | 105 => 0xB3B885EC#32
  | 106 => 0x33B78A8A#32
  | 107 => 0xB3B69F28#32
  | 108 => 0x33B5C377#32
  | 109 => 0xB3B4F732#32
  | 110 => 0x33B43A15#32
  | 111 => 0xB3B38BE5#32
  | 112 => 0x33B2EC6A#32
  | 113 => 0xB3B25B72#32
  | 114 => 0x33B1D8CF#32
  | 115 => 0xB3B16459#32
  | 116 => 0x33B0FDEA#32
  | 117 => 0xB3B0A563#32
  | 118 => 0x33B05AA9#32
  | 119 => 0xB3B01DA5#32
  | 120 => 0x33AFEE43#32
  | 121 => 0xB3AFCC75#32
  | 122 => 0x33AFB831#32
  | 123 => 0xB3AFB170#32
  | 124 => 0x33AFB831#32
  | 125 => 0xB3AFCC75#32
  | 126 => 0x33AFEE43#32
  | 127 => 0xB3B01DA5#32
  | _ => 0#32

noncomputable abbrev lit0t0_503 (i : Nat) : BitVec 32 := match i % 128 with
  | 0 => 0x33B05AA9#32
  | 1 => 0xB3B0A563#32
  | 2 => 0x33B0FDEA#32
  | 3 => 0xB3B16459#32
  | 4 => 0x33B1D8CF#32
  | 5 => 0xB3B25B72#32
  | 6 => 0x33B2EC6A#32
  | 7 => 0xB3B38BE5#32
  | 8 => 0x33B43A15#32
  | 9 => 0xB3B4F732#32
  | 10 => 0x33B5C377#32
  | 11 => 0xB3B69F28#32
  | 12 => 0x33B78A8A#32
  | 13 => 0xB3B885EC#32
  | 14 => 0x33B9919E#32
  | 15 => 0xB3BAADFB#32
  | 16 => 0x33BBDB61#32
  | 17 => 0xB3BD1A36#32
  | 18 => 0x33BE6AE7#32
  | 19 => 0xB3BFCDE6#32
  | 20 => 0x33C143B0#32
  | 21 => 0xB3C2CCC7#32
  | 22 => 0x33C469B8#32
  | 23 => 0xB3C61B15#32
  | 24 => 0x33C7E17D#32
  | 25 => 0xB3C9BD97#32
  | 26 => 0x33CBB015#32
  | 27 => 0xB3CDB9B1#32
  | 28 => 0x33CFDB34#32
  | 29 => 0xB3D21572#32
  | 30 => 0x33D4694B#32
  | 31 => 0xB3D6D7AE#32
  | 32 => 0x33D96196#32
  | 33 => 0xB3DC0810#32
  | 34 => 0x33DECC38#32
  | 35 => 0xB3E1AF3D#32
  | 36 => 0x33E4B25D#32
  | 37 => 0xB3E7D6EF#32
  | 38 => 0x33EB1E5A#32
  | 39 => 0xB3EE8A1F#32
  | 40 => 0x33F21BD6#32
  | 41 => 0xB3F5D532#32
  | 42 => 0x33F9B800#32
  | 43 => 0xB3FDC62E#32
  | 44 => 0x340100E3#32
  | 45 => 0xB403367C#32
  | 46 => 0x3405850C#32
  | 47 => 0xB407EDD1#32
  | 48 => 0x340A721F#32
  | 49 => 0xB40D1360#32
  | 50 => 0x340FD31A#32
  | 51 => 0xB412B2ED#32
  | 52 => 0x3415B495#32
  | 53 => 0xB418D9F0#32
  | 54 => 0x341C2500#32
  | 55 => 0xB41F97EA#32
  | 56 => 0x342334FF#32
  | 57 => 0xB426FEBD#32
  | 58 => 0x342AF7D2#32
  | 59 => 0xB42F2322#32
  | 60 => 0x343383CC#32
  | 61 => 0xB4381D32#32
  | 62 => 0x343CF2FA#32
  | 63 => 0xB4420919#32
  | 64 => 0x344763DA#32
  | 65 => 0xB44D07E6#32
  | 66 => 0x3452FA51#32
  | 67 => 0xB45940A1#32
  | 68 => 0x345FE0DA#32
  | 69 => 0xB466E193#32
  | 70 => 0x346E49FF#32
  | 71 => 0xB4762200#32
  | 72 => 0x347E723F#32
  | 73 => 0xB483A221#32
  | 74 => 0x34885143#32
  | 75 => 0xB48D4C4D#32
  | 76 => 0x349299A5#32
  | 77 => 0xB4984061#32
  | 78 => 0x349E485F#32
  | 79 => 0xB4A4BA5F#32
  | 80 => 0x34ABA023#32
  | 81 => 0xB4B30492#32
  | 82 => 0x34BAF3E5#32
  | 83 => 0xB4C37BD6#32
  | 84 => 0x34CCABDA#32
  | 85 => 0xB4D69568#32
  | 86 => 0x34E14C49#32
  | 87 => 0xB4ECE6F7#32
  | 88 => 0x34F97F13#32
  | 89 => 0xB50398F7#32
  | 90 => 0x350B1097#32
  | 91 => 0xB51339CD#32
  | 92 => 0x351C2B08#32
  | 93 => 0xB525FE56#32
  | 94 => 0x3530D21D#32
  | 95 => 0xB53CCA00#32
  | 96 => 0x354A0FF9#32
  | 97 => 0xB558D5BB#32
  | 98 => 0x35695670#32
  | 99 => 0xB57BD8F1#32
  | 100 => 0x3588594C#32
  | 101 => 0xB5942572#32
  | 102 => 0x35A19018#32
  | 103 => 0xB5B0E6EF#32
  | 104 => 0x35C28A3B#32
  | 105 => 0xB5D6F23A#32
  | 106 => 0x35EEB658#32
  | 107 => 0xB6054B76#32
  | 108 => 0x3615C529#32
  | 109 => 0xB6296767#32
  | 110 => 0x3641014B#32
  | 111 => 0xB65DA20C#32
  | 112 => 0x368056F2#32
  | 113 => 0xB695FBC4#32
  | 114 => 0x36B0ED61#32
  | 115 => 0xB6D29E9B#32
  | 116 => 0x36FFBDB2#32
  | 117 => 0xB692EE32#32
  | 118 => 0x391EBB1A#32
  | 119 => 0x3B12D0DF#32
  | 120 => 0x3CA0086D#32
  | 121 => 0x3DBAD58B#32
  | 122 => 0x3E6BB748#32
  | 123 => 0x3EA069FE#32
  | 124 => 0x3E6BB748#32
  | 125 => 0x3DBAD58B#32
  | 126 => 0x3CA0086D#32
  | 127 => 0x3B12D0DF#32
  | _ => 0#32

noncomputable abbrev lit0t0_504 (i : Nat) : BitVec 32 := match i % 128 with
  | 0 => 0x3B12D0DF#32
  | 1 => 0x391EBB1A#32
  | 2 => 0xB692EE32#32
  | 3 => 0x36FFBDB2#32
  | 4 => 0xB6D29E9B#32
  | 5 => 0x36B0ED61#32
  | 6 => 0xB695FBC4#32
  | 7 => 0x368056F2#32
  | 8 => 0xB65DA20C#32
  | 9 => 0x3641014B#32
  | 10 => 0xB6296767#32
  | 11 => 0x3615C529#32
  | 12 => 0xB6054B76#32
  | 13 => 0x35EEB658#32
  | 14 => 0xB5D6F23A#32
  | 15 => 0x35C28A3B#32
  | 16 => 0xB5B0E6EF#32
  | 17 => 0x35A19018#32
  | 18 => 0xB5942572#32
  | 19 => 0x3588594C#32
  | 20 => 0xB57BD8F1#32
  | 21 => 0x35695670#32
  | 22 => 0xB558D5BB#32
  | 23 => 0x354A0FF9#32
  | 24 => 0xB53CCA00#32
  | 25 => 0x3530D21D#32
  | 26 => 0xB525FE56#32
  | 27 => 0x351C2B08#32
  | 28 => 0xB51339CD#32
  | 29 => 0x350B1097#32
  | 30 => 0xB50398F7#32
  | 31 => 0x34F97F13#32
  | 32 => 0xB4ECE6F7#32
  | 33 => 0x34E14C49#32
  | 34 => 0xB4D69568#32
  | 35 => 0x34CCABDA#32
  | 36 => 0xB4C37BD6#32
  | 37 => 0x34BAF3E5#32
  | 38 => 0xB4B30492#32
  | 39 => 0x34ABA023#32
  | 40 => 0xB4A4BA5F#32
  | 41 => 0x349E485F#32
  | 42 => 0xB4984061#32
  | 43 => 0x349299A5#32
  | 44 => 0xB48D4C4D#32
  | 45 => 0x34885142#32
  | 46 => 0xB483A221#32
  | 47 => 0x347E723F#32
  | 48 => 0xB4762200#32
  | 49 => 0x346E49FF#32
  | 50 => 0xB466E193#32
  | 51 => 0x345FE0DA#32
  | 52 => 0xB45940A1#32
  | 53 => 0x3452FA51#32
  | 54 => 0xB44D07E6#32
  | 55 => 0x344763DA#32
  | 56 => 0xB4420919#32
  | 57 => 0x343CF2FA#32
  | 58 => 0xB4381D32#32
  | 59 => 0x343383CC#32
  | 60 => 0xB42F2322#32
  | 61 => 0x342AF7D2#32
  | 62 => 0xB426FEBD#32
  | 63 => 0x342334FF#32
  | 64 => 0xB41F97EA#32
  | 65 => 0x341C2500#32
  | 66 => 0xB418D9F0#32
  | 67 => 0x3415B495#32
  | 68 => 0xB412B2ED#32
  | 69 => 0x340FD31A#32
  | 70 => 0xB40D1360#32
  | 71 => 0x340A721F#32
  | 72 => 0xB407EDD1#32
  | 73 => 0x3405850C#32
  | 74 => 0xB403367C#32
  | 75 => 0x340100E3#32
  | 76 => 0xB3FDC62E#32
  | 77 => 0x33F9B800#32
  | 78 => 0xB3F5D532#32
  | 79 => 0x33F21BD6#32
  | 80 => 0xB3EE8A1F#32
  | 81 => 0x33EB1E5A#32
  | 82 => 0xB3E7D6EF#32
  | 83 => 0x33E4B25D#32
  | 84 => 0xB3E1AF3D#32
  | 85 => 0x33DECC38#32
  | 86 => 0xB3DC0810#32
  | 87 => 0x33D96196#32
  | 88 => 0xB3D6D7AE#32
  | 89 => 0x33D4694B#32
  | 90 => 0xB3D21572#32
  | 91 => 0x33CFDB34#32
  | 92 => 0xB3CDB9B1#32
  | 93 => 0x33CBB015#32
  | 94 => 0xB3C9BD97#32
  | 95 => 0x33C7E17D#32
  | 96 => 0xB3C61B15#32
  | 97 => 0x33C469B8#32
  | 98 => 0xB3C2CCC7#32
  | 99 => 0x33C143B0#32
  | 100 => 0xB3BFCDE6#32
  | 101 => 0x33BE6AE7#32
  | 102 => 0xB3BD1A36#32
  | 103 => 0x33BBDB61#32
  | 104 => 0xB3BAADFB#32
  | 105 => 0x33B9919E#32
  | 106 => 0xB3B885EC#32
  | 107 => 0x33B78A8A#32
  | 108 => 0xB3B69F28#32
  | 109 => 0x33B5C377#32
  | 110 => 0xB3B4F732#32
  | 111 => 0x33B43A15#32
  | 112 => 0xB3B38BE5#32
  | 113 => 0x33B2EC6A#32
  | 114 => 0xB3B25B72#32
  | 115 => 0x33B1D8CF#32
  | 116 => 0xB3B16459#32
  | 117 => 0x33B0FDEA#32
  | 118 => 0xB3B0A563#32
  | 119 => 0x33B05AA9#32
  | 120 => 0xB3B01DA5#32
  | 121 => 0x33AFEE43#32
  | 122 => 0xB3AFCC75#32
  | 123 => 0x33AFB831#32
  | 124 => 0xB3AFB170#32
  | 125 => 0x33AFB831#32
  | 126 => 0xB3AFCC75#32
  | 127 => 0x33AFEE43#32
  | _ => 0#32

noncomputable abbrev lit0t0_505 (i : Nat) : BitVec 32 := match i % 128 with
  | 0 => 0xB3B01DA5#32
  | 1 => 0x33B05AA9#32
  | 2 => 0xB3B0A563#32
  | 3 => 0x33B0FDEA#32
  | 4 => 0xB3B16459#32
  | 5 => 0x33B1D8CF#32
  | 6 => 0xB3B25B72#32
  | 7 => 0x33B2EC6A#32
  | 8 => 0xB3B38BE5#32
  | 9 => 0x33B43A15#32
  | 10 => 0xB3B4F732#32
  | 11 => 0x33B5C377#32
  | 12 => 0xB3B69F28#32
  | 13 => 0x33B78A8A#32
  | 14 => 0xB3B885EC#32
  | 15 => 0x33B9919E#32
  | 16 => 0xB3BAADFB#32
  | 17 => 0x33BBDB61#32
  | 18 => 0xB3BD1A36#32
  | 19 => 0x33BE6AE7#32
  | 20 => 0xB3BFCDE6#32
  | 21 => 0x33C143B0#32
  | 22 => 0xB3C2CCC7#32
  | 23 => 0x33C469B8#32
  | 24 => 0xB3C61B15#32
  | 25 => 0x33C7E17D#32
  | 26 => 0xB3C9BD97#32
  | 27 => 0x33CBB015#32
  | 28 => 0xB3CDB9B1#32
  | 29 => 0x33CFDB34#32
  | 30 => 0xB3D21572#32
  | 31 => 0x33D4694B#32
  | 32 => 0xB3D6D7AE#32
  | 33 => 0x33D96196#32
  | 34 => 0xB3DC0810#32
  | 35 => 0x33DECC38#32
  | 36 => 0xB3E1AF3D#32
  | 37 => 0x33E4B25D#32
  | 38 => 0xB3E7D6EF#32
  | 39 => 0x33EB1E5A#32
  | 40 => 0xB3EE8A1F#32
  | 41 => 0x33F21BD6#32
  | 42 => 0xB3F5D532#32
  | 43 => 0x33F9B800#32
  | 44 => 0xB3FDC62E#32
  | 45 => 0x340100E3#32
  | 46 => 0xB403367C#32
  | 47 => 0x3405850C#32
  | 48 => 0xB407EDD1#32
  | 49 => 0x340A721F#32
  | 50 => 0xB40D1360#32
  | 51 => 0x340FD31A#32
  | 52 => 0xB412B2ED#32
  | 53 => 0x3415B495#32
  | 54 => 0xB418D9F0#32
  | 55 => 0x341C2500#32
  | 56 => 0xB41F97EA#32
  | 57 => 0x342334FF#32
  | 58 => 0xB426FEBD#32
  | 59 => 0x342AF7D2#32
  | 60 => 0xB42F2322#32
  | 61 => 0x343383CC#32
  | 62 => 0xB4381D32#32
  | 63 => 0x343CF2FA#32
  | 64 => 0xB4420919#32
  | 65 => 0x344763DA#32
  | 66 => 0xB44D07E6#32
  | 67 => 0x3452FA51#32
  | 68 => 0xB45940A1#32
  | 69 => 0x345FE0DA#32
  | 70 => 0xB466E193#32
  | 71 => 0x346E49FF#32
  | 72 => 0xB4762200#32
  | 73 => 0x347E723F#32
  | 74 => 0xB483A221#32
  | 75 => 0x34885142#32
  | 76 => 0xB48D4C4D#32
  | 77 => 0x349299A5#32
  | 78 => 0xB4984061#32
  | 79 => 0x349E485F#32
  | 80 => 0xB4A4BA5F#32
  | 81 => 0x34ABA023#32
  | 82 => 0xB4B30492#32
  | 83 => 0x34BAF3E5#32
  | 84 => 0xB4C37BD6#32
  | 85 => 0x34CCABDA#32
  | 86 => 0xB4D69568#32
  | 87 => 0x34E14C49#32
  | 88 => 0xB4ECE6F7#32
  | 89 => 0x34F97F13#32
  | 90 => 0xB50398F7#32
  | 91 => 0x350B1097#32
  | 92 => 0xB51339CD#32
  | 93 => 0x351C2B08#32
  | 94 => 0xB525FE56#32
  | 95 => 0x3530D21D#32
  | 96 => 0xB53CCA00#32
  | 97 => 0x354A0FF9#32
  | 98 => 0xB558D5BB#32
  | 99 => 0x35695670#32
  | 100 => 0xB57BD8F1#32
  | 101 => 0x3588594C#32
  | 102 => 0xB5942572#32
  | 103 => 0x35A19018#32
  | 104 => 0xB5B0E6EF#32
  | 105 => 0x35C28A3B#32
  | 106 => 0xB5D6F23A#32
  | 107 => 0x35EEB658#32
  | 108 => 0xB6054B76#32
  | 109 => 0x3615C529#32
  | 110 => 0xB6296767#32
  | 111 => 0x3641014B#32
  | 112 => 0xB65DA20C#32
  | 113 => 0x368056F2#32
  | 114 => 0xB695FBC4#32
  | 115 => 0x36B0ED61#32
  | 116 => 0xB6D29E9B#32
  | 117 => 0x36FFBDB2#32
  | 118 => 0xB692EE32#32
  | 119 => 0x391EBB1A#32
  | 120 => 0x3B12D0DF#32
  | 121 => 0x3CA0086D#32
  | 122 => 0x3DBAD58B#32
  | 123 => 0x3E6BB748#32
  | 124 => 0x3EA069FE#32
  | 125 => 0x3E6BB748#32
  | 126 => 0x3DBAD58B#32
  | 127 => 0x3CA0086D#32
  | _ => 0#32

noncomputable abbrev lit0t0_506 (i : Nat) : BitVec 32 := match i % 128 with
  | 0 => 0x3CA0086D#32
  | 1 => 0x3B12D0DF#32
  | 2 => 0x391EBB1A#32
  | 3 => 0xB692EE32#32
  | 4 => 0x36FFBDB2#32
  | 5 => 0xB6D29E9B#32
  | 6 => 0x36B0ED61#32
  | 7 => 0xB695FBC4#32
  | 8 => 0x368056F2#32
  | 9 => 0xB65DA20C#32
  | 10 => 0x3641014B#32
  | 11 => 0xB6296767#32
  | 12 => 0x3615C529#32
  | 13 => 0xB6054B76#32
  | 14 => 0x35EEB658#32
  | 15 => 0xB5D6F23A#32
  | 16 => 0x35C28A3B#32
  | 17 => 0xB5B0E6EF#32
  | 18 => 0x35A19018#32
  | 19 => 0xB5942572#32
  | 20 => 0x3588594C#32
  | 21 => 0xB57BD8F1#32
  | 22 => 0x35695670#32
  | 23 => 0xB558D5BB#32
  | 24 => 0x354A0FF9#32
  | 25 => 0xB53CCA00#32
  | 26 => 0x3530D21D#32
  | 27 => 0xB525FE56#32
  | 28 => 0x351C2B08#32
  | 29 => 0xB51339CD#32
  | 30 => 0x350B1097#32
  | 31 => 0xB50398F7#32
  | 32 => 0x34F97F13#32
  | 33 => 0xB4ECE6F7#32
  | 34 => 0x34E14C49#32
  | 35 => 0xB4D69568#32
  | 36 => 0x34CCABDA#32
  | 37 => 0xB4C37BD6#32
  | 38 => 0x34BAF3E5#32
  | 39 => 0xB4B30492#32
  | 40 => 0x34ABA023#32
  | 41 => 0xB4A4BA5F#32
  | 42 => 0x349E485F#32
  | 43 => 0xB4984061#32
  | 44 => 0x349299A5#32
  | 45 => 0xB48D4C4D#32
  | 46 => 0x34885142#32
  | 47 => 0xB483A221#32
  | 48 => 0x347E723F#32
  | 49 => 0xB4762200#32
  | 50 => 0x346E49FF#32
  | 51 => 0xB466E193#32
  | 52 => 0x345FE0DA#32
  | 53 => 0xB45940A1#32
  | 54 => 0x3452FA51#32
  | 55 => 0xB44D07E6#32
  | 56 => 0x344763DA#32
  | 57 => 0xB4420919#32
  | 58 => 0x343CF2FA#32
  | 59 => 0xB4381D32#32
  | 60 => 0x343383CC#32
  | 61 => 0xB42F2322#32
  | 62 => 0x342AF7D2#32
  | 63 => 0xB426FEBD#32
  | 64 => 0x342334FF#32
  | 65 => 0xB41F97EA#32
  | 66 => 0x341C2500#32
  | 67 => 0xB418D9F0#32
  | 68 => 0x3415B495#32
  | 69 => 0xB412B2ED#32
  | 70 => 0x340FD31A#32
  | 71 => 0xB40D1360#32
  | 72 => 0x340A721F#32
  | 73 => 0xB407EDD1#32
  | 74 => 0x3405850C#32
  | 75 => 0xB403367C#32
  | 76 => 0x340100E3#32
  | 77 => 0xB3FDC62E#32
  | 78 => 0x33F9B800#32
  | 79 => 0xB3F5D532#32
  | 80 => 0x33F21BD6#32
  | 81 => 0xB3EE8A1F#32
  | 82 => 0x33EB1E5A#32
  | 83 => 0xB3E7D6EF#32
  | 84 => 0x33E4B25D#32
  | 85 => 0xB3E1AF3D#32
  | 86 => 0x33DECC38#32
  | 87 => 0xB3DC0810#32
  | 88 => 0x33D96196#32
  | 89 => 0xB3D6D7AE#32
  | 90 => 0x33D4694B#32
  | 91 => 0xB3D21572#32
  | 92 => 0x33CFDB34#32
  | 93 => 0xB3CDB9B1#32
  | 94 => 0x33CBB015#32
  | 95 => 0xB3C9BD97#32
  | 96 => 0x33C7E17D#32
  | 97 => 0xB3C61B15#32
  | 98 => 0x33C469B8#32
  | 99 => 0xB3C2CCC7#32
  | 100 => 0x33C143B0#32
  | 101 => 0xB3BFCDE6#32
  | 102 => 0x33BE6AE7#32
  | 103 => 0xB3BD1A36#32
  | 104 => 0x33BBDB61#32
  | 105 => 0xB3BAADFB#32
  | 106 => 0x33B9919E#32
  | 107 => 0xB3B885EC#32
  | 108 => 0x33B78A8A#32
  | 109 => 0xB3B69F28#32
  | 110 => 0x33B5C377#32
  | 111 => 0xB3B4F732#32
  | 112 => 0x33B43A15#32
  | 113 => 0xB3B38BE5#32
  | 114 => 0x33B2EC6A#32
  | 115 => 0xB3B25B72#32
  | 116 => 0x33B1D8CF#32
  | 117 => 0xB3B16459#32
  | 118 => 0x33B0FDEA#32
  | 119 => 0xB3B0A563#32
  | 120 => 0x33B05AA9#32
  | 121 => 0xB3B01DA5#32
  | 122 => 0x33AFEE43#32
  | 123 => 0xB3AFCC75#32
  | 124 => 0x33AFB831#32
  | 125 => 0xB3AFB170#32
  | 126 => 0x33AFB831#32
  | 127 => 0xB3AFCC75#32
  | _ => 0#32

noncomputable abbrev lit0t0_507 (i : Nat) : BitVec 32 := match i % 128 with
  | 0 => 0x33AFEE43#32
  | 1 => 0xB3B01DA5#32
  | 2 => 0x33B05AA9#32
  | 3 => 0xB3B0A563#32
  | 4 => 0x33B0FDEA#32
  | 5 => 0xB3B16459#32
  | 6 => 0x33B1D8CF#32
  | 7 => 0xB3B25B72#32
  | 8 => 0x33B2EC6A#32
  | 9 => 0xB3B38BE5#32
  | 10 => 0x33B43A15#32
  | 11 => 0xB3B4F732#32
  | 12 => 0x33B5C377#32
  | 13 => 0xB3B69F28#32
  | 14 => 0x33B78A8A#32
  | 15 => 0xB3B885EC#32
  | 16 => 0x33B9919E#32
  | 17 => 0xB3BAADFB#32
  | 18 => 0x33BBDB61#32
  | 19 => 0xB3BD1A36#32
  | 20 => 0x33BE6AE7#32
  | 21 => 0xB3BFCDE6#32
  | 22 => 0x33C143B0#32
  | 23 => 0xB3C2CCC7#32
  | 24 => 0x33C469B8#32
  | 25 => 0xB3C61B15#32
  | 26 => 0x33C7E17D#32
  | 27 => 0xB3C9BD97#32
  | 28 => 0x33CBB015#32
  | 29 => 0xB3CDB9B1#32
  | 30 => 0x33CFDB34#32
  | 31 => 0xB3D21572#32
  | 32 => 0x33D4694B#32
  | 33 => 0xB3D6D7AE#32
  | 34 => 0x33D96196#32
  | 35 => 0xB3DC0810#32
  | 36 => 0x33DECC38#32
  | 37 => 0xB3E1AF3D#32
  | 38 => 0x33E4B25D#32
  | 39 => 0xB3E7D6EF#32
  | 40 => 0x33EB1E5A#32
  | 41 => 0xB3EE8A1F#32
  | 42 => 0x33F21BD6#32
  | 43 => 0xB3F5D532#32
  | 44 => 0x33F9B800#32
  | 45 => 0xB3FDC62E#32
  | 46 => 0x340100E3#32
  | 47 => 0xB403367C#32
  | 48 => 0x3405850C#32
  | 49 => 0xB407EDD1#32
  | 50 => 0x340A721F#32
  | 51 => 0xB40D1360#32
  | 52 => 0x340FD31A#32
  | 53 => 0xB412B2ED#32
  | 54 => 0x3415B495#32
  | 55 => 0xB418D9F0#32
  | 56 => 0x341C2500#32
  | 57 => 0xB41F97EA#32
  | 58 => 0x342334FF#32
  | 59 => 0xB426FEBD#32
  | 60 => 0x342AF7D2#32
  | 61 => 0xB42F2322#32
  | 62 => 0x343383CC#32
  | 63 => 0xB4381D32#32
  | 64 => 0x343CF2FA#32
  | 65 => 0xB4420919#32
  | 66 => 0x344763DA#32
  | 67 => 0xB44D07E6#32
  | 68 => 0x3452FA51#32
  | 69 => 0xB45940A1#32
  | 70 => 0x345FE0DA#32
  | 71 => 0xB466E193#32
  | 72 => 0x346E49FF#32
  | 73 => 0xB4762200#32
  | 74 => 0x347E723F#32
  | 75 => 0xB483A221#32
  | 76 => 0x34885142#32
  | 77 => 0xB48D4C4D#32
  | 78 => 0x349299A5#32
  | 79 => 0xB4984061#32
  | 80 => 0x349E485F#32
  | 81 => 0xB4A4BA5F#32
  | 82 => 0x34ABA023#32
  | 83 => 0xB4B30492#32
  | 84 => 0x34BAF3E5#32
  | 85 => 0xB4C37BD6#32
  | 86 => 0x34CCABDA#32
  | 87 => 0xB4D69568#32
  | 88 => 0x34E14C49#32
  | 89 => 0xB4ECE6F7#32
  | 90 => 0x34F97F13#32
  | 91 => 0xB50398F7#32
  | 92 => 0x350B1097#32
  | 93 => 0xB51339CD#32
  | 94 => 0x351C2B08#32
  | 95 => 0xB525FE56#32
  | 96 => 0x3530D21D#32
  | 97 => 0xB53CCA00#32
  | 98 => 0x354A0FF9#32
  | 99 => 0xB558D5BB#32
  | 100 => 0x35695670#32
  | 101 => 0xB57BD8F1#32
  | 102 => 0x3588594C#32
  | 103 => 0xB5942572#32
  | 104 => 0x35A19018#32
  | 105 => 0xB5B0E6EF#32
  | 106 => 0x35C28A3B#32
  | 107 => 0xB5D6F23A#32
  | 108 => 0x35EEB658#32
  | 109 => 0xB6054B76#32
  | 110 => 0x3615C529#32
  | 111 => 0xB6296767#32
  | 112 => 0x3641014B#32
  | 113 => 0xB65DA20C#32
  | 114 => 0x368056F2#32
  | 115 => 0xB695FBC4#32
  | 116 => 0x36B0ED61#32
  | 117 => 0xB6D29E9B#32
  | 118 => 0x36FFBDB2#32
  | 119 => 0xB692EE32#32
  | 120 => 0x391EBB1A#32
  | 121 => 0x3B12D0DF#32
  | 122 => 0x3CA0086D#32
  | 123 => 0x3DBAD58B#32
  | 124 => 0x3E6BB748#32
  | 125 => 0x3EA069FE#32
  | 126 => 0x3E6BB748#32
  | 127 => 0x3DBAD58B#32
  | _ => 0#32

noncomputable abbrev lit0t0_508 (i : Nat) : BitVec 32 := match i % 128 with
  | 0 => 0x3DBAD58B#32
  | 1 => 0x3CA0086D#32
  | 2 => 0x3B12D0DF#32
  | 3 => 0x391EBB1A#32
  | 4 => 0xB692EE32#32
  | 5 => 0x36FFBDB2#32
  | 6 => 0xB6D29E9B#32
  | 7 => 0x36B0ED61#32
  | 8 => 0xB695FBC4#32
  | 9 => 0x368056F2#32
  | 10 => 0xB65DA20C#32
  | 11 => 0x3641014B#32
  | 12 => 0xB6296767#32
  | 13 => 0x3615C529#32
  | 14 => 0xB6054B76#32
  | 15 => 0x35EEB658#32
  | 16 => 0xB5D6F23A#32
  | 17 => 0x35C28A3B#32
  | 18 => 0xB5B0E6EF#32
  | 19 => 0x35A19018#32
  | 20 => 0xB5942572#32
  | 21 => 0x3588594C#32
  | 22 => 0xB57BD8F1#32
  | 23 => 0x35695670#32
  | 24 => 0xB558D5BB#32
  | 25 => 0x354A0FF9#32
  | 26 => 0xB53CCA00#32
  | 27 => 0x3530D21D#32
  | 28 => 0xB525FE56#32
  | 29 => 0x351C2B08#32
  | 30 => 0xB51339CD#32
  | 31 => 0x350B1097#32
  | 32 => 0xB50398F7#32
  | 33 => 0x34F97F13#32
  | 34 => 0xB4ECE6F7#32
  | 35 => 0x34E14C49#32
  | 36 => 0xB4D69568#32
  | 37 => 0x34CCABDA#32
  | 38 => 0xB4C37BD6#32
  | 39 => 0x34BAF3E5#32
  | 40 => 0xB4B30492#32
  | 41 => 0x34ABA023#32
  | 42 => 0xB4A4BA5F#32
  | 43 => 0x349E485F#32
  | 44 => 0xB4984061#32
  | 45 => 0x349299A5#32
  | 46 => 0xB48D4C4D#32
  | 47 => 0x34885143#32
  | 48 => 0xB483A221#32
  | 49 => 0x347E723F#32
  | 50 => 0xB4762200#32
  | 51 => 0x346E49FF#32
  | 52 => 0xB466E193#32
  | 53 => 0x345FE0DA#32
  | 54 => 0xB45940A1#32
  | 55 => 0x3452FA51#32
  | 56 => 0xB44D07E6#32
  | 57 => 0x344763DA#32
  | 58 => 0xB4420919#32
  | 59 => 0x343CF2FA#32
  | 60 => 0xB4381D32#32
  | 61 => 0x343383CC#32
  | 62 => 0xB42F2322#32
  | 63 => 0x342AF7D2#32
  | 64 => 0xB426FEBD#32
  | 65 => 0x342334FF#32
  | 66 => 0xB41F97EA#32
  | 67 => 0x341C2500#32
  | 68 => 0xB418D9F0#32
  | 69 => 0x3415B495#32
  | 70 => 0xB412B2ED#32
  | 71 => 0x340FD31A#32
  | 72 => 0xB40D1360#32
  | 73 => 0x340A721F#32
  | 74 => 0xB407EDD1#32
  | 75 => 0x3405850C#32
  | 76 => 0xB403367C#32
  | 77 => 0x340100E3#32
  | 78 => 0xB3FDC62E#32
  | 79 => 0x33F9B800#32
  | 80 => 0xB3F5D532#32
  | 81 => 0x33F21BD6#32
  | 82 => 0xB3EE8A1F#32
  | 83 => 0x33EB1E5A#32
  | 84 => 0xB3E7D6EF#32
  | 85 => 0x33E4B25D#32
  | 86 => 0xB3E1AF3D#32
  | 87 => 0x33DECC38#32
  | 88 => 0xB3DC0810#32
  | 89 => 0x33D96196#32
  | 90 => 0xB3D6D7AE#32
  | 91 => 0x33D4694B#32
  | 92 => 0xB3D21572#32
  | 93 => 0x33CFDB34#32
  | 94 => 0xB3CDB9B1#32
  | 95 => 0x33CBB015#32
  | 96 => 0xB3C9BD97#32
  | 97 => 0x33C7E17D#32
  | 98 => 0xB3C61B15#32
  | 99 => 0x33C469B8#32
  | 100 => 0xB3C2CCC7#32
  | 101 => 0x33C143B0#32
  | 102 => 0xB3BFCDE6#32
  | 103 => 0x33BE6AE7#32
  | 104 => 0xB3BD1A36#32
  | 105 => 0x33BBDB61#32
  | 106 => 0xB3BAADFB#32
  | 107 => 0x33B9919E#32
  | 108 => 0xB3B885EC#32
  | 109 => 0x33B78A8A#32
  | 110 => 0xB3B69F28#32
  | 111 => 0x33B5C377#32
  | 112 => 0xB3B4F732#32
  | 113 => 0x33B43A15#32
  | 114 => 0xB3B38BE5#32
  | 115 => 0x33B2EC6A#32
  | 116 => 0xB3B25B72#32
  | 117 => 0x33B1D8CF#32
  | 118 => 0xB3B16459#32
  | 119 => 0x33B0FDEA#32
  | 120 => 0xB3B0A563#32
  | 121 => 0x33B05AA9#32
  | 122 => 0xB3B01DA5#32
  | 123 => 0x33AFEE43#32
  | 124 => 0xB3AFCC75#32
  | 125 => 0x33AFB831#32
  | 126 => 0xB3AFB170#32
  | 127 => 0x33AFB831#32
  | _ => 0#32

noncomputable abbrev lit0t0_509 (i : Nat) : BitVec 32 := match i % 128 with
  | 0 => 0xB3AFCC75#32
  | 1 => 0x33AFEE43#32
  | 2 => 0xB3B01DA5#32
  | 3 => 0x33B05AA9#32
  | 4 => 0xB3B0A563#32
  | 5 => 0x33B0FDEA#32
  | 6 => 0xB3B16459#32
  | 7 => 0x33B1D8CF#32
  | 8 => 0xB3B25B72#32
  | 9 => 0x33B2EC6A#32
  | 10 => 0xB3B38BE5#32
  | 11 => 0x33B43A15#32
  | 12 => 0xB3B4F732#32
  | 13 => 0x33B5C377#32
  | 14 => 0xB3B69F28#32
  | 15 => 0x33B78A8A#32
  | 16 => 0xB3B885EC#32
  | 17 => 0x33B9919E#32
  | 18 => 0xB3BAADFB#32
  | 19 => 0x33BBDB61#32
  | 20 => 0xB3BD1A36#32
  | 21 => 0x33BE6AE7#32
  | 22 => 0xB3BFCDE6#32
  | 23 => 0x33C143B0#32
  | 24 => 0xB3C2CCC7#32
  | 25 => 0x33C469B8#32
  | 26 => 0xB3C61B15#32
  | 27 => 0x33C7E17D#32
  | 28 => 0xB3C9BD97#32
  | 29 => 0x33CBB015#32
  | 30 => 0xB3CDB9B1#32
  | 31 => 0x33CFDB34#32
  | 32 => 0xB3D21572#32
  | 33 => 0x33D4694B#32
  | 34 => 0xB3D6D7AE#32
  | 35 => 0x33D96196#32
  | 36 => 0xB3DC0810#32
  | 37 => 0x33DECC38#32
  | 38 => 0xB3E1AF3D#32
  | 39 => 0x33E4B25D#32
  | 40 => 0xB3E7D6EF#32
  | 41 => 0x33EB1E5A#32
  | 42 => 0xB3EE8A1F#32
  | 43 => 0x33F21BD6#32
  | 44 => 0xB3F5D532#32
  | 45 => 0x33F9B800#32
  | 46 => 0xB3FDC62E#32
  | 47 => 0x340100E3#32
  | 48 => 0xB403367C#32
  | 49 => 0x3405850C#32
  | 50 => 0xB407EDD1#32
  | 51 => 0x340A721F#32
  | 52 => 0xB40D1360#32
  | 53 => 0x340FD31A#32
  | 54 => 0xB412B2ED#32
  | 55 => 0x3415B495#32
  | 56 => 0xB418D9F0#32
  | 57 => 0x341C2500#32
  | 58 => 0xB41F97EA#32
  | 59 => 0x342334FF#32
  | 60 => 0xB426FEBD#32
  | 61 => 0x342AF7D2#32
  | 62 => 0xB42F2322#32
  | 63 => 0x343383CC#32
  | 64 => 0xB4381D32#32
  | 65 => 0x343CF2FA#32
  | 66 => 0xB4420919#32
  | 67 => 0x344763DA#32
  | 68 => 0xB44D07E6#32
  | 69 => 0x3452FA51#32
  | 70 => 0xB45940A1#32
  | 71 => 0x345FE0DA#32
  | 72 => 0xB466E193#32
  | 73 => 0x346E49FF#32
  | 74 => 0xB4762200#32
  | 75 => 0x347E723F#32
  | 76 => 0xB483A221#32
  | 77 => 0x34885142#32
  | 78 => 0xB48D4C4D#32
  | 79 => 0x349299A5#32
  | 80 => 0xB4984061#32
  | 81 => 0x349E485F#32
  | 82 => 0xB4A4BA5F#32
  | 83 => 0x34ABA023#32
  | 84 => 0xB4B30492#32
  | 85 => 0x34BAF3E5#32
  | 86 => 0xB4C37BD6#32
  | 87 => 0x34CCABDA#32
  | 88 => 0xB4D69568#32
  | 89 => 0x34E14C49#32
  | 90 => 0xB4ECE6F7#32
  | 91 => 0x34F97F13#32
  | 92 => 0xB50398F7#32
  | 93 => 0x350B1097#32
  | 94 => 0xB51339CD#32
  | 95 => 0x351C2B08#32
  | 96 => 0xB525FE56#32
  | 97 => 0x3530D21D#32
  | 98 => 0xB53CCA00#32
  | 99 => 0x354A0FF9#32
  | 100 => 0xB558D5BB#32
  | 101 => 0x35695670#32
  | 102 => 0xB57BD8F1#32
  | 103 => 0x3588594C#32
  | 104 => 0xB5942572#32
  | 105 => 0x35A19018#32
  | 106 => 0xB5B0E6EF#32
  | 107 => 0x35C28A3B#32
  | 108 => 0xB5D6F23A#32
  | 109 => 0x35EEB658#32
  | 110 => 0xB6054B76#32
  | 111 => 0x3615C529#32
  | 112 => 0xB6296767#32
  | 113 => 0x3641014B#32
  | 114 => 0xB65DA20C#32
  | 115 => 0x368056F2#32
  | 116 => 0xB695FBC4#32
  | 117 => 0x36B0ED61#32
  | 118 => 0xB6D29E9B#32
  | 119 => 0x36FFBDB2#32
  | 120 => 0xB692EE32#32
  | 121 => 0x391EBB1A#32
  | 122 => 0x3B12D0DF#32
  | 123 => 0x3CA0086D#32
  | 124 => 0x3DBAD58B#32
  | 125 => 0x3E6BB748#32
  | 126 => 0x3EA069FE#32
  | 127 => 0x3E6BB748#32
  | _ => 0#32

noncomputable abbrev lit0t0_510 (i : Nat) : BitVec 32 := match i % 128 with
  | 0 => 0x3E6BB748#32
  | 1 => 0x3DBAD58B#32
  | 2 => 0x3CA0086D#32
  | 3 => 0x3B12D0DF#32
  | 4 => 0x391EBB1A#32
  | 5 => 0xB692EE32#32
  | 6 => 0x36FFBDB2#32
  | 7 => 0xB6D29E9B#32
  | 8 => 0x36B0ED61#32
  | 9 => 0xB695FBC4#32
  | 10 => 0x368056F2#32
  | 11 => 0xB65DA20C#32
  | 12 => 0x3641014B#32
  | 13 => 0xB6296767#32
  | 14 => 0x3615C529#32
  | 15 => 0xB6054B76#32
  | 16 => 0x35EEB658#32
  | 17 => 0xB5D6F23A#32
  | 18 => 0x35C28A3B#32
  | 19 => 0xB5B0E6EF#32
  | 20 => 0x35A19018#32
  | 21 => 0xB5942572#32
  | 22 => 0x3588594C#32
  | 23 => 0xB57BD8F1#32
  | 24 => 0x35695670#32
  | 25 => 0xB558D5BB#32
  | 26 => 0x354A0FF9#32
  | 27 => 0xB53CCA00#32
  | 28 => 0x3530D21D#32
  | 29 => 0xB525FE56#32
  | 30 => 0x351C2B08#32
  | 31 => 0xB51339CD#32
  | 32 => 0x350B1097#32
  | 33 => 0xB50398F7#32
  | 34 => 0x34F97F13#32
  | 35 => 0xB4ECE6F7#32
  | 36 => 0x34E14C49#32
  | 37 => 0xB4D69568#32
  | 38 => 0x34CCABDA#32
  | 39 => 0xB4C37BD6#32
  | 40 => 0x34BAF3E5#32
  | 41 => 0xB4B30492#32
  | 42 => 0x34ABA023#32
  | 43 => 0xB4A4BA5F#32
  | 44 => 0x349E485F#32
  | 45 => 0xB4984061#32
  | 46 => 0x349299A5#32
  | 47 => 0xB48D4C4D#32
  | 48 => 0x34885143#32
  | 49 => 0xB483A221#32
  | 50 => 0x347E723F#32
  | 51 => 0xB4762200#32
  | 52 => 0x346E49FF#32
  | 53 => 0xB466E193#32
  | 54 => 0x345FE0DA#32
  | 55 => 0xB45940A1#32
  | 56 => 0x3452FA51#32
  | 57 => 0xB44D07E6#32
  | 58 => 0x344763DA#32
  | 59 => 0xB4420919#32
  | 60 => 0x343CF2FA#32
  | 61 => 0xB4381D32#32
  | 62 => 0x343383CC#32
  | 63 => 0xB42F2322#32
  | 64 => 0x342AF7D2#32
  | 65 => 0xB426FEBD#32
  | 66 => 0x342334FF#32
  | 67 => 0xB41F97EA#32
  | 68 => 0x341C2500#32
  | 69 => 0xB418D9F0#32
  | 70 => 0x3415B495#32
  | 71 => 0xB412B2ED#32
  | 72 => 0x340FD31A#32
  | 73 => 0xB40D1360#32
  | 74 => 0x340A721F#32
  | 75 => 0xB407EDD1#32
  | 76 => 0x3405850C#32
  | 77 => 0xB403367C#32
  | 78 => 0x340100E3#32
  | 79 => 0xB3FDC62E#32
  | 80 => 0x33F9B800#32
  | 81 => 0xB3F5D532#32
  | 82 => 0x33F21BD6#32
  | 83 => 0xB3EE8A1F#32
  | 84 => 0x33EB1E5A#32
  | 85 => 0xB3E7D6EF#32
  | 86 => 0x33E4B25D#32
  | 87 => 0xB3E1AF3D#32
  | 88 => 0x33DECC38#32
  | 89 => 0xB3DC0810#32
  | 90 => 0x33D96196#32
  | 91 => 0xB3D6D7AE#32
  | 92 => 0x33D4694B#32
  | 93 => 0xB3D21572#32
  | 94 => 0x33CFDB34#32
  | 95 => 0xB3CDB9B1#32
  | 96 => 0x33CBB015#32
  | 97 => 0xB3C9BD97#32
  | 98 => 0x33C7E17D#32
  | 99 => 0xB3C61B15#32
  | 100 => 0x33C469B8#32
  | 101 => 0xB3C2CCC7#32
  | 102 => 0x33C143B0#32
  | 103 => 0xB3BFCDE6#32
  | 104 => 0x33BE6AE7#32
  | 105 => 0xB3BD1A36#32
  | 106 => 0x33BBDB61#32
  | 107 => 0xB3BAADFB#32
  | 108 => 0x33B9919E#32
  | 109 => 0xB3B885EC#32
  | 110 => 0x33B78A8A#32
  | 111 => 0xB3B69F28#32
  | 112 => 0x33B5C377#32
  | 113 => 0xB3B4F732#32
  | 114 => 0x33B43A15#32
  | 115 => 0xB3B38BE5#32
  | 116 => 0x33B2EC6A#32
  | 117 => 0xB3B25B72#32
  | 118 => 0x33B1D8CF#32
  | 119 => 0xB3B16459#32
  | 120 => 0x33B0FDEA#32
  | 121 => 0xB3B0A563#32
  | 122 => 0x33B05AA9#32
  | 123 => 0xB3B01DA5#32
  | 124 => 0x33AFEE43#32
  | 125 => 0xB3AFCC75#32
  | 126 => 0x33AFB831#32
  | 127 => 0xB3AFB170#32
  | _ => 0#32

noncomputable abbrev lit0t0_511 (i : Nat) : BitVec 32 := match i % 128 with
  | 0 => 0x33AFB831#32
  | 1 => 0xB3AFCC75#32
  | 2 => 0x33AFEE43#32
  | 3 => 0xB3B01DA5#32
  | 4 => 0x33B05AA9#32
  | 5 => 0xB3B0A563#32
  | 6 => 0x33B0FDEA#32
  | 7 => 0xB3B16459#32
  | 8 => 0x33B1D8CF#32
  | 9 => 0xB3B25B72#32
  | 10 => 0x33B2EC6A#32
  | 11 => 0xB3B38BE5#32
  | 12 => 0x33B43A15#32
  | 13 => 0xB3B4F732#32
  | 14 => 0x33B5C377#32
  | 15 => 0xB3B69F28#32
  | 16 => 0x33B78A8A#32
  | 17 => 0xB3B885EC#32
  | 18 => 0x33B9919E#32
  | 19 => 0xB3BAADFB#32
  | 20 => 0x33BBDB61#32
  | 21 => 0xB3BD1A36#32
  | 22 => 0x33BE6AE7#32
  | 23 => 0xB3BFCDE6#32
  | 24 => 0x33C143B0#32
  | 25 => 0xB3C2CCC7#32
  | 26 => 0x33C469B8#32
  | 27 => 0xB3C61B15#32
  | 28 => 0x33C7E17D#32
  | 29 => 0xB3C9BD97#32
  | 30 => 0x33CBB015#32
  | 31 => 0xB3CDB9B1#32
  | 32 => 0x33CFDB34#32
  | 33 => 0xB3D21572#32
  | 34 => 0x33D4694B#32
  | 35 => 0xB3D6D7AE#32
  | 36 => 0x33D96196#32
  | 37 => 0xB3DC0810#32
  | 38 => 0x33DECC38#32
  | 39 => 0xB3E1AF3D#32
  | 40 => 0x33E4B25D#32
  | 41 => 0xB3E7D6EF#32
  | 42 => 0x33EB1E5A#32
  | 43 => 0xB3EE8A1F#32
  | 44 => 0x33F21BD6#32
  | 45 => 0xB3F5D532#32
  | 46 => 0x33F9B800#32
  | 47 => 0xB3FDC62E#32
  | 48 => 0x340100E3#32
  | 49 => 0xB403367C#32
  | 50 => 0x3405850C#32
  | 51 => 0xB407EDD1#32
  | 52 => 0x340A721F#32
  | 53 => 0xB40D1360#32
  | 54 => 0x340FD31A#32
  | 55 => 0xB412B2ED#32
  | 56 => 0x3415B495#32
  | 57 => 0xB418D9F0#32
  | 58 => 0x341C2500#32
  | 59 => 0xB41F97EA#32
  | 60 => 0x342334FF#32
  | 61 => 0xB426FEBD#32
  | 62 => 0x342AF7D2#32
  | 63 => 0xB42F2322#32
  | 64 => 0x343383CC#32
  | 65 => 0xB4381D32#32
  | 66 => 0x343CF2FA#32
  | 67 => 0xB4420919#32
  | 68 => 0x344763DA#32
  | 69 => 0xB44D07E6#32
  | 70 => 0x3452FA51#32
  | 71 => 0xB45940A1#32
  | 72 => 0x345FE0DA#32
  | 73 => 0xB466E193#32
  | 74 => 0x346E49FF#32
  | 75 => 0xB4762200#32
  | 76 => 0x347E723F#32
  | 77 => 0xB483A221#32
  | 78 => 0x34885143#32
  | 79 => 0xB48D4C4D#32
  | 80 => 0x349299A5#32
  | 81 => 0xB4984061#32
  | 82 => 0x349E485F#32
  | 83 => 0xB4A4BA5F#32
  | 84 => 0x34ABA023#32
  | 85 => 0xB4B30492#32
  | 86 => 0x34BAF3E5#32
  | 87 => 0xB4C37BD6#32
  | 88 => 0x34CCABDA#32
  | 89 => 0xB4D69568#32
  | 90 => 0x34E14C49#32
  | 91 => 0xB4ECE6F7#32
  | 92 => 0x34F97F13#32
  | 93 => 0xB50398F7#32
  | 94 => 0x350B1097#32
  | 95 => 0xB51339CD#32
  | 96 => 0x351C2B08#32
  | 97 => 0xB525FE56#32
  | 98 => 0x3530D21D#32
  | 99 => 0xB53CCA00#32
  | 100 => 0x354A0FF9#32
  | 101 => 0xB558D5BB#32
  | 102 => 0x35695670#32
  | 103 => 0xB57BD8F1#32
  | 104 => 0x3588594C#32
  | 105 => 0xB5942572#32
  | 106 => 0x35A19018#32
  | 107 => 0xB5B0E6EF#32
  | 108 => 0x35C28A3B#32
  | 109 => 0xB5D6F23A#32
  | 110 => 0x35EEB658#32
  | 111 => 0xB6054B76#32
  | 112 => 0x3615C529#32
  | 113 => 0xB6296767#32
  | 114 => 0x3641014B#32
  | 115 => 0xB65DA20C#32
  | 116 => 0x368056F2#32
  | 117 => 0xB695FBC4#32
  | 118 => 0x36B0ED61#32
  | 119 => 0xB6D29E9B#32
  | 120 => 0x36FFBDB2#32
  | 121 => 0xB692EE32#32
  | 122 => 0x391EBB1A#32
  | 123 => 0x3B12D0DF#32
  | 124 => 0x3CA0086D#32
  | 125 => 0x3DBAD58B#32
  | 126 => 0x3E6BB748#32
  | 127 => 0x3EA069FE#32
  | _ => 0#32

noncomputable abbrev lit0t1_0 (i : Nat) : BitVec 32 := match i / 128 % 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | 13 => lit0t0_13 i
  | 14 => lit0t0_14 i
  | 15 => lit0t0_15 i
  | 16 => lit0t0_16 i
  | 17 => lit0t0_17 i
  | 18 => lit0t0_18 i
  | 19 => lit0t0_19 i
  | 20 => lit0t0_20 i
  | 21 => lit0t0_21 i
  | 22 => lit0t0_22 i
  | 23 => lit0t0_23 i
  | 24 => lit0t0_24 i
  | 25 => lit0t0_25 i
  | 26 => lit0t0_26 i
  | 27 => lit0t0_27 i
  | 28 => lit0t0_28 i
  | 29 => lit0t0_29 i
  | 30 => lit0t0_30 i
  | 31 => lit0t0_31 i
  | 32 => lit0t0_32 i
  | 33 => lit0t0_33 i
  | 34 => lit0t0_34 i
  | 35 => lit0t0_35 i
  | 36 => lit0t0_36 i
  | 37 => lit0t0_37 i
  | 38 => lit0t0_38 i
  | 39 => lit0t0_39 i
  | 40 => lit0t0_40 i
  | 41 => lit0t0_41 i
  | 42 => lit0t0_42 i
  | 43 => lit0t0_43 i
  | 44 => lit0t0_44 i
  | 45 => lit0t0_45 i
  | 46 => lit0t0_46 i
  | 47 => lit0t0_47 i
  | 48 => lit0t0_48 i
  | 49 => lit0t0_49 i
  | 50 => lit0t0_50 i
  | 51 => lit0t0_51 i
  | 52 => lit0t0_52 i
  | 53 => lit0t0_53 i
  | 54 => lit0t0_54 i
  | 55 => lit0t0_55 i
  | 56 => lit0t0_56 i
  | 57 => lit0t0_57 i
  | 58 => lit0t0_58 i
  | 59 => lit0t0_59 i
  | 60 => lit0t0_60 i
  | 61 => lit0t0_61 i
  | 62 => lit0t0_62 i
  | 63 => lit0t0_63 i
  | 64 => lit0t0_64 i
  | 65 => lit0t0_65 i
  | 66 => lit0t0_66 i
  | 67 => lit0t0_67 i
  | 68 => lit0t0_68 i
  | 69 => lit0t0_69 i
  | 70 => lit0t0_70 i
  | 71 => lit0t0_71 i
  | 72 => lit0t0_72 i
  | 73 => lit0t0_73 i
  | 74 => lit0t0_74 i
  | 75 => lit0t0_75 i
  | 76 => lit0t0_76 i
  | 77 => lit0t0_77 i
  | 78 => lit0t0_78 i
  | 79 => lit0t0_79 i
  | 80 => lit0t0_80 i
  | 81 => lit0t0_81 i
  | 82 => lit0t0_82 i
  | 83 => lit0t0_83 i
  | 84 => lit0t0_84 i
  | 85 => lit0t0_85 i
  | 86 => lit0t0_86 i
  | 87 => lit0t0_87 i
  | 88 => lit0t0_88 i
  | 89 => lit0t0_89 i
  | 90 => lit0t0_90 i
  | 91 => lit0t0_91 i
  | 92 => lit0t0_92 i
  | 93 => lit0t0_93 i
  | 94 => lit0t0_94 i
  | 95 => lit0t0_95 i
  | 96 => lit0t0_96 i
  | 97 => lit0t0_97 i
  | 98 => lit0t0_98 i
  | 99 => lit0t0_99 i
  | 100 => lit0t0_100 i
  | 101 => lit0t0_101 i
  | 102 => lit0t0_102 i
  | 103 => lit0t0_103 i
  | 104 => lit0t0_104 i
  | 105 => lit0t0_105 i
  | 106 => lit0t0_106 i
  | 107 => lit0t0_107 i
  | 108 => lit0t0_108 i
  | 109 => lit0t0_109 i
  | 110 => lit0t0_110 i
  | 111 => lit0t0_111 i
  | 112 => lit0t0_112 i
  | 113 => lit0t0_113 i
  | 114 => lit0t0_114 i
  | 115 => lit0t0_115 i
  | 116 => lit0t0_116 i
  | 117 => lit0t0_117 i
  | 118 => lit0t0_118 i
  | 119 => lit0t0_119 i
  | 120 => lit0t0_120 i
  | 121 => lit0t0_121 i
  | 122 => lit0t0_122 i
  | 123 => lit0t0_123 i
  | 124 => lit0t0_124 i
  | 125 => lit0t0_125 i
  | 126 => lit0t0_126 i
  | 127 => lit0t0_127 i
  | _ => 0#32

noncomputable abbrev lit0t1_1 (i : Nat) : BitVec 32 := match i / 128 % 128 with
  | 0 => lit0t0_128 i
  | 1 => lit0t0_129 i
  | 2 => lit0t0_130 i
  | 3 => lit0t0_131 i
  | 4 => lit0t0_132 i
  | 5 => lit0t0_133 i
  | 6 => lit0t0_134 i
  | 7 => lit0t0_135 i
  | 8 => lit0t0_136 i
  | 9 => lit0t0_137 i
  | 10 => lit0t0_138 i
  | 11 => lit0t0_139 i
  | 12 => lit0t0_140 i
  | 13 => lit0t0_141 i
  | 14 => lit0t0_142 i
  | 15 => lit0t0_143 i
  | 16 => lit0t0_144 i
  | 17 => lit0t0_145 i
  | 18 => lit0t0_146 i
  | 19 => lit0t0_147 i
  | 20 => lit0t0_148 i
  | 21 => lit0t0_149 i
  | 22 => lit0t0_150 i
  | 23 => lit0t0_151 i
  | 24 => lit0t0_152 i
  | 25 => lit0t0_153 i
  | 26 => lit0t0_154 i
  | 27 => lit0t0_155 i
  | 28 => lit0t0_156 i
  | 29 => lit0t0_157 i
  | 30 => lit0t0_158 i
  | 31 => lit0t0_159 i
  | 32 => lit0t0_160 i
  | 33 => lit0t0_161 i
  | 34 => lit0t0_162 i
  | 35 => lit0t0_163 i
  | 36 => lit0t0_164 i
  | 37 => lit0t0_165 i
  | 38 => lit0t0_166 i
  | 39 => lit0t0_167 i
  | 40 => lit0t0_168 i
  | 41 => lit0t0_169 i
  | 42 => lit0t0_170 i
  | 43 => lit0t0_171 i
  | 44 => lit0t0_172 i
  | 45 => lit0t0_173 i
  | 46 => lit0t0_174 i
  | 47 => lit0t0_175 i
  | 48 => lit0t0_176 i
  | 49 => lit0t0_177 i
  | 50 => lit0t0_178 i
  | 51 => lit0t0_179 i
  | 52 => lit0t0_180 i
  | 53 => lit0t0_181 i
  | 54 => lit0t0_182 i
  | 55 => lit0t0_183 i
  | 56 => lit0t0_184 i
  | 57 => lit0t0_185 i
  | 58 => lit0t0_186 i
  | 59 => lit0t0_187 i
  | 60 => lit0t0_188 i
  | 61 => lit0t0_189 i
  | 62 => lit0t0_190 i
  | 63 => lit0t0_191 i
  | 64 => lit0t0_192 i
  | 65 => lit0t0_193 i
  | 66 => lit0t0_194 i
  | 67 => lit0t0_195 i
  | 68 => lit0t0_196 i
  | 69 => lit0t0_197 i
  | 70 => lit0t0_198 i
  | 71 => lit0t0_199 i
  | 72 => lit0t0_200 i
  | 73 => lit0t0_201 i
  | 74 => lit0t0_202 i
  | 75 => lit0t0_203 i
  | 76 => lit0t0_204 i
  | 77 => lit0t0_205 i
  | 78 => lit0t0_206 i
  | 79 => lit0t0_207 i
  | 80 => lit0t0_208 i
  | 81 => lit0t0_209 i
  | 82 => lit0t0_210 i
  | 83 => lit0t0_211 i
  | 84 => lit0t0_212 i
  | 85 => lit0t0_213 i
  | 86 => lit0t0_214 i
  | 87 => lit0t0_215 i
  | 88 => lit0t0_216 i
  | 89 => lit0t0_217 i
  | 90 => lit0t0_218 i
  | 91 => lit0t0_219 i
  | 92 => lit0t0_220 i
  | 93 => lit0t0_221 i
  | 94 => lit0t0_222 i
  | 95 => lit0t0_223 i
  | 96 => lit0t0_224 i
  | 97 => lit0t0_225 i
  | 98 => lit0t0_226 i
  | 99 => lit0t0_227 i
  | 100 => lit0t0_228 i
  | 101 => lit0t0_229 i
  | 102 => lit0t0_230 i
  | 103 => lit0t0_231 i
  | 104 => lit0t0_232 i
  | 105 => lit0t0_233 i
  | 106 => lit0t0_234 i
  | 107 => lit0t0_235 i
  | 108 => lit0t0_236 i
  | 109 => lit0t0_237 i
  | 110 => lit0t0_238 i
  | 111 => lit0t0_239 i
  | 112 => lit0t0_240 i
  | 113 => lit0t0_241 i
  | 114 => lit0t0_242 i
  | 115 => lit0t0_243 i
  | 116 => lit0t0_244 i
  | 117 => lit0t0_245 i
  | 118 => lit0t0_246 i
  | 119 => lit0t0_247 i
  | 120 => lit0t0_248 i
  | 121 => lit0t0_249 i
  | 122 => lit0t0_250 i
  | 123 => lit0t0_251 i
  | 124 => lit0t0_252 i
  | 125 => lit0t0_253 i
  | 126 => lit0t0_254 i
  | 127 => lit0t0_255 i
  | _ => 0#32

noncomputable abbrev lit0t1_2 (i : Nat) : BitVec 32 := match i / 128 % 128 with
  | 0 => lit0t0_256 i
  | 1 => lit0t0_257 i
  | 2 => lit0t0_258 i
  | 3 => lit0t0_259 i
  | 4 => lit0t0_260 i
  | 5 => lit0t0_261 i
  | 6 => lit0t0_262 i
  | 7 => lit0t0_263 i
  | 8 => lit0t0_264 i
  | 9 => lit0t0_265 i
  | 10 => lit0t0_266 i
  | 11 => lit0t0_267 i
  | 12 => lit0t0_268 i
  | 13 => lit0t0_269 i
  | 14 => lit0t0_270 i
  | 15 => lit0t0_271 i
  | 16 => lit0t0_272 i
  | 17 => lit0t0_273 i
  | 18 => lit0t0_274 i
  | 19 => lit0t0_275 i
  | 20 => lit0t0_276 i
  | 21 => lit0t0_277 i
  | 22 => lit0t0_278 i
  | 23 => lit0t0_279 i
  | 24 => lit0t0_280 i
  | 25 => lit0t0_281 i
  | 26 => lit0t0_282 i
  | 27 => lit0t0_283 i
  | 28 => lit0t0_284 i
  | 29 => lit0t0_285 i
  | 30 => lit0t0_286 i
  | 31 => lit0t0_287 i
  | 32 => lit0t0_288 i
  | 33 => lit0t0_289 i
  | 34 => lit0t0_290 i
  | 35 => lit0t0_291 i
  | 36 => lit0t0_292 i
  | 37 => lit0t0_293 i
  | 38 => lit0t0_294 i
  | 39 => lit0t0_295 i
  | 40 => lit0t0_296 i
  | 41 => lit0t0_297 i
  | 42 => lit0t0_298 i
  | 43 => lit0t0_299 i
  | 44 => lit0t0_300 i
  | 45 => lit0t0_301 i
  | 46 => lit0t0_302 i
  | 47 => lit0t0_303 i
  | 48 => lit0t0_304 i
  | 49 => lit0t0_305 i
  | 50 => lit0t0_306 i
  | 51 => lit0t0_307 i
  | 52 => lit0t0_308 i
  | 53 => lit0t0_309 i
  | 54 => lit0t0_310 i
  | 55 => lit0t0_311 i
  | 56 => lit0t0_312 i
  | 57 => lit0t0_313 i
  | 58 => lit0t0_314 i
  | 59 => lit0t0_315 i
  | 60 => lit0t0_316 i
  | 61 => lit0t0_317 i
  | 62 => lit0t0_318 i
  | 63 => lit0t0_319 i
  | 64 => lit0t0_320 i
  | 65 => lit0t0_321 i
  | 66 => lit0t0_322 i
  | 67 => lit0t0_323 i
  | 68 => lit0t0_324 i
  | 69 => lit0t0_325 i
  | 70 => lit0t0_326 i
  | 71 => lit0t0_327 i
  | 72 => lit0t0_328 i
  | 73 => lit0t0_329 i
  | 74 => lit0t0_330 i
  | 75 => lit0t0_331 i
  | 76 => lit0t0_332 i
  | 77 => lit0t0_333 i
  | 78 => lit0t0_334 i
  | 79 => lit0t0_335 i
  | 80 => lit0t0_336 i
  | 81 => lit0t0_337 i
  | 82 => lit0t0_338 i
  | 83 => lit0t0_339 i
  | 84 => lit0t0_340 i
  | 85 => lit0t0_341 i
  | 86 => lit0t0_342 i
  | 87 => lit0t0_343 i
  | 88 => lit0t0_344 i
  | 89 => lit0t0_345 i
  | 90 => lit0t0_346 i
  | 91 => lit0t0_347 i
  | 92 => lit0t0_348 i
  | 93 => lit0t0_349 i
  | 94 => lit0t0_350 i
  | 95 => lit0t0_351 i
  | 96 => lit0t0_352 i
  | 97 => lit0t0_353 i
  | 98 => lit0t0_354 i
  | 99 => lit0t0_355 i
  | 100 => lit0t0_356 i
  | 101 => lit0t0_357 i
  | 102 => lit0t0_358 i
  | 103 => lit0t0_359 i
  | 104 => lit0t0_360 i
  | 105 => lit0t0_361 i
  | 106 => lit0t0_362 i
  | 107 => lit0t0_363 i
  | 108 => lit0t0_364 i
  | 109 => lit0t0_365 i
  | 110 => lit0t0_366 i
  | 111 => lit0t0_367 i
  | 112 => lit0t0_368 i
  | 113 => lit0t0_369 i
  | 114 => lit0t0_370 i
  | 115 => lit0t0_371 i
  | 116 => lit0t0_372 i
  | 117 => lit0t0_373 i
  | 118 => lit0t0_374 i
  | 119 => lit0t0_375 i
  | 120 => lit0t0_376 i
  | 121 => lit0t0_377 i
  | 122 => lit0t0_378 i
  | 123 => lit0t0_379 i
  | 124 => lit0t0_380 i
  | 125 => lit0t0_381 i
  | 126 => lit0t0_382 i
  | 127 => lit0t0_383 i
  | _ => 0#32

noncomputable abbrev lit0t1_3 (i : Nat) : BitVec 32 := match i / 128 % 128 with
  | 0 => lit0t0_384 i
  | 1 => lit0t0_385 i
  | 2 => lit0t0_386 i
  | 3 => lit0t0_387 i
  | 4 => lit0t0_388 i
  | 5 => lit0t0_389 i
  | 6 => lit0t0_390 i
  | 7 => lit0t0_391 i
  | 8 => lit0t0_392 i
  | 9 => lit0t0_393 i
  | 10 => lit0t0_394 i
  | 11 => lit0t0_395 i
  | 12 => lit0t0_396 i
  | 13 => lit0t0_397 i
  | 14 => lit0t0_398 i
  | 15 => lit0t0_399 i
  | 16 => lit0t0_400 i
  | 17 => lit0t0_401 i
  | 18 => lit0t0_402 i
  | 19 => lit0t0_403 i
  | 20 => lit0t0_404 i
  | 21 => lit0t0_405 i
  | 22 => lit0t0_406 i
  | 23 => lit0t0_407 i
  | 24 => lit0t0_408 i
  | 25 => lit0t0_409 i
  | 26 => lit0t0_410 i
  | 27 => lit0t0_411 i
  | 28 => lit0t0_412 i
  | 29 => lit0t0_413 i
  | 30 => lit0t0_414 i
  | 31 => lit0t0_415 i
  | 32 => lit0t0_416 i
  | 33 => lit0t0_417 i
  | 34 => lit0t0_418 i
  | 35 => lit0t0_419 i
  | 36 => lit0t0_420 i
  | 37 => lit0t0_421 i
  | 38 => lit0t0_422 i
  | 39 => lit0t0_423 i
  | 40 => lit0t0_424 i
  | 41 => lit0t0_425 i
  | 42 => lit0t0_426 i
  | 43 => lit0t0_427 i
  | 44 => lit0t0_428 i
  | 45 => lit0t0_429 i
  | 46 => lit0t0_430 i
  | 47 => lit0t0_431 i
  | 48 => lit0t0_432 i
  | 49 => lit0t0_433 i
  | 50 => lit0t0_434 i
  | 51 => lit0t0_435 i
  | 52 => lit0t0_436 i
  | 53 => lit0t0_437 i
  | 54 => lit0t0_438 i
  | 55 => lit0t0_439 i
  | 56 => lit0t0_440 i
  | 57 => lit0t0_441 i
  | 58 => lit0t0_442 i
  | 59 => lit0t0_443 i
  | 60 => lit0t0_444 i
  | 61 => lit0t0_445 i
  | 62 => lit0t0_446 i
  | 63 => lit0t0_447 i
  | 64 => lit0t0_448 i
  | 65 => lit0t0_449 i
  | 66 => lit0t0_450 i
  | 67 => lit0t0_451 i
  | 68 => lit0t0_452 i
  | 69 => lit0t0_453 i
  | 70 => lit0t0_454 i
  | 71 => lit0t0_455 i
  | 72 => lit0t0_456 i
  | 73 => lit0t0_457 i
  | 74 => lit0t0_458 i
  | 75 => lit0t0_459 i
  | 76 => lit0t0_460 i
  | 77 => lit0t0_461 i
  | 78 => lit0t0_462 i
  | 79 => lit0t0_463 i
  | 80 => lit0t0_464 i
  | 81 => lit0t0_465 i
  | 82 => lit0t0_466 i
  | 83 => lit0t0_467 i
  | 84 => lit0t0_468 i
  | 85 => lit0t0_469 i
  | 86 => lit0t0_470 i
  | 87 => lit0t0_471 i
  | 88 => lit0t0_472 i
  | 89 => lit0t0_473 i
  | 90 => lit0t0_474 i
  | 91 => lit0t0_475 i
  | 92 => lit0t0_476 i
  | 93 => lit0t0_477 i
  | 94 => lit0t0_478 i
  | 95 => lit0t0_479 i
  | 96 => lit0t0_480 i
  | 97 => lit0t0_481 i
  | 98 => lit0t0_482 i
  | 99 => lit0t0_483 i
  | 100 => lit0t0_484 i
  | 101 => lit0t0_485 i
  | 102 => lit0t0_486 i
  | 103 => lit0t0_487 i
  | 104 => lit0t0_488 i
  | 105 => lit0t0_489 i
  | 106 => lit0t0_490 i
  | 107 => lit0t0_491 i
  | 108 => lit0t0_492 i
  | 109 => lit0t0_493 i
  | 110 => lit0t0_494 i
  | 111 => lit0t0_495 i
  | 112 => lit0t0_496 i
  | 113 => lit0t0_497 i
  | 114 => lit0t0_498 i
  | 115 => lit0t0_499 i
  | 116 => lit0t0_500 i
  | 117 => lit0t0_501 i
  | 118 => lit0t0_502 i
  | 119 => lit0t0_503 i
  | 120 => lit0t0_504 i
  | 121 => lit0t0_505 i
  | 122 => lit0t0_506 i
  | 123 => lit0t0_507 i
  | 124 => lit0t0_508 i
  | 125 => lit0t0_509 i
  | 126 => lit0t0_510 i
  | 127 => lit0t0_511 i
  | _ => 0#32

noncomputable abbrev lit0t (i : Nat) : BitVec 32 := match i / 16384 with
  | 0 => lit0t1_0 i
  | 1 => lit0t1_1 i
  | 2 => lit0t1_2 i
  | 3 => lit0t1_3 i
  | _ => 0#32

noncomputable abbrev lit0 : Fin 65536 → BitVec 32 := fun ⟨i, _⟩ => lit0t i

def fn_part2 {F : FTy → Type} [FloatOps F] (main_arg2 : FVec F S1x256x1x1x1 .f32) (main_v34 : IVec S_ 1) (main_v35 : FVec F S8x256x32x32x16 .f32) (main_cst_9 : FVec F S_ .f32) : IVec S_ 1 :=
  let main_v36 : FVec F S8x256x32x32x16 .f32 := broadcastInDim S8x256x32x32x16 ![] bcast_S_S8x256x32x32x16 main_cst_9
  let main_v37 : IVec S8x256x32x32x16 1 := cmpf .olt main_v35 main_v36
  let main_c_10 : IVec S_ 1 := constantI S_ 1 1#1
  let main_v38 : IVec S_ 1 := (fun x v => Host.reduce IntOp.andi x v reducesTo_S8x256x32x32x16_S_d0_1_2_3_4 h_S_) main_v37 main_c_10
  let main_v39 : FVec F S1x256x1x1x1 .f32 := Host.absf main_arg2
  let main_cst_11 : FVec F S_ .f32 := constant S_ .f32 0x7F800000#32
  let main_v40 : FVec F S1x256x1x1x1 .f32 := broadcastInDim S1x256x1x1x1 ![] bcast_S_S1x256x1x1x1 main_cst_11
  let main_v41 : IVec S1x256x1x1x1 1 := cmpf .olt main_v39 main_v40
  let main_c_12 : IVec S_ 1 := constantI S_ 1 1#1
  let main_v42 : IVec S_ 1 := (fun x v => Host.reduce IntOp.andi x v reducesTo_S1x256x1x1x1_S_d0_1_2_3_4 h_S_) main_v41 main_c_12
  let main_v43 : IVec S_ 1 := andi main_v38 main_v42
  let main_v44 : IVec S_ 1 := andi main_v43 main_v34
  main_v44

def fn_part1 {F : FTy → Type} [FloatOps F] (main_arg0 : FVec F S8x256x32x32x16 .f32) (main_arg2 : FVec F S1x256x1x1x1 .f32) (main_v10 : FVec F S8x128x256 .f32) (main_v16 : FVec F S8x128x256 .f32) (main_v17 : FVec F S8x128x256 .f32) : IVec S_ 1 :=
  let main_v18 : FVec F S8x128x256 .f32 := subf main_v16 main_v10
  let main_v19 : FVec F S8x128x256 .f32 := Host.absf main_v18
  let main_cst_5 : FVec F S_ .f32 := constant S_ .f32 0x358637BD#32
  let main_v20 : FVec F S8x128x256 .f32 := broadcastInDim S8x128x256 ![] bcast_S_S8x128x256 main_cst_5
  let main_v21 : FVec F S8x128x256 .f32 := addf main_v19 main_v20
  let main_v22 : FVec F S8x128x256 .f32 := Host.divf main_v17 main_v21
  let main_v23 : FVec F S8x256x128 .f32 := (transpose S8x256x128 [0, 2, 1] · transposes_S8x128x256_S8x256x128_0_2_1) main_v22
  let main_v24 : FVec F S8x256x1x128 .f32 := broadcastInDim S8x256x1x128 ![0, 1, 3] bcast_S8x256x128_S8x256x1x128_0_1_3 main_v23
  let main_v25 : FVec F S8x256x128x1 .f32 := broadcastInDim S8x256x128x1 ![0, 1, 2] bcast_S8x256x128_S8x256x128x1_0_1_2 main_v23
  let main_v26 : FVec F S8x256x128x128 .f32 := broadcastInDim S8x256x128x128 ![0, 1, 2, 3] bcast_S8x256x1x128_S8x256x128x128_0_1_2_3 main_v24
  let main_v27 : FVec F S8x256x128x128 .f32 := broadcastInDim S8x256x128x128 ![0, 1, 2, 3] bcast_S8x256x128x1_S8x256x128x128_0_1_2_3 main_v25
  let main_v28 : IVec S8x256x128x128 1 := cmpf .oge main_v26 main_v27
  let main_v29 : IVec S8x256x128x128 32 := (extui 32 · natLt_1_32) main_v28
  let main_c : IVec S_ 32 := constantI S_ 32 0#32
  let main_v30 : IVec S8x256x128 32 := (fun x v => Host.reduce IntOp.addi x v reducesTo_S8x256x128x128_S8x256x128_d3 h_S_) main_v29 main_c
  let main_c_6 : IVec S_ 32 := constantI S_ 32 45#32
  let main_v31 : IVec S8x256x128 32 := broadcastInDim S8x256x128 ![] bcast_S_S8x256x128 main_c_6
  let main_v32 : IVec S8x256x128 1 := cmpi .eq main_v30 main_v31
  let main_c_7 : IVec S_ 1 := constantI S_ 1 0#1
  let main_v33 : IVec S8x256 1 := (fun x v => Host.reduce IntOp.ori x v reducesTo_S8x256x128_S8x256_d2 h_S_) main_v32 main_c_7
  let main_c_8 : IVec S_ 1 := constantI S_ 1 1#1
  let main_v34 : IVec S_ 1 := (fun x v => Host.reduce IntOp.andi x v reducesTo_S8x256_S_d0_1 h_S_) main_v33 main_c_8
  let main_v35 : FVec F S8x256x32x32x16 .f32 := Host.absf main_arg0
  let main_cst_9 : FVec F S_ .f32 := constant S_ .f32 0x7F800000#32
  fn_part2 (F := F) main_arg2 main_v34 main_v35 main_cst_9

def fn {F : FTy → Type} [FloatOps F] (main_arg0 : FVec F S8x256x32x32x16 .f32) (main_arg1 : FVec F S_ .f32) (main_arg2 : FVec F S1x256x1x1x1 .f32) : IVec S_ 1 :=
  let main_cst : FVec F S256x256 .f32 := fun i => FloatOps.ofBits .f32 (lit0 (S256x256.rowMajor i))
  let main_cst_0 : FVec F S_ .f32 := constant S_ .f32 0x00000000#32
  let main_v0 : FVec F S8x256x32x32 .f32 := (fun x v => Host.reduceAdd x v reducesTo_S8x256x32x32x16_S8x256x32x32_d4 h_S_) main_arg0 main_cst_0
  let main_cst_1 : FVec F S_ .f32 := constant S_ .f32 0x41800000#32
  let main_v1 : FVec F S8x256x32x32 .f32 := broadcastInDim S8x256x32x32 ![] bcast_S_S8x256x32x32 main_cst_1
  let main_v2 : FVec F S8x256x32x32 .f32 := Host.divf main_v0 main_v1
  let main_v3 : FVec F S8x32x256x32 .f32 := (transpose S8x32x256x32 [0, 2, 1, 3] · transposes_S8x256x32x32_S8x32x256x32_0_2_1_3) main_v2
  let main_v4 : FVec F S256x256x4x8 .f32 := shapeCast S256x256x4x8 main_v3 shapeCasts_S8x32x256x32_S256x256x4x8
  let main_cst_2 : FVec F S_ .f32 := constant S_ .f32 0x00000000#32
  let main_v5 : FVec F S256x256x4 .f32 := (fun x v => Host.reduceAdd x v reducesTo_S256x256x4x8_S256x256x4_d3 h_S_) main_v4 main_cst_2
  let main_cst_3 : FVec F S_ .f32 := constant S_ .f32 0x41000000#32
  let main_v6 : FVec F S256x256x4 .f32 := broadcastInDim S256x256x4 ![] bcast_S_S256x256x4 main_cst_3
  let main_v7 : FVec F S256x256x4 .f32 := Host.divf main_v5 main_v6
  let main_v8 : FVec F S8x32x256x4 .f32 := shapeCast S8x32x256x4 main_v7 shapeCasts_S256x256x4_S8x32x256x4
  let main_v9 : FVec F S8x32x4x256 .f32 := (transpose S8x32x4x256 [0, 1, 3, 2] · transposes_S8x32x256x4_S8x32x4x256_0_1_3_2) main_v8
  let main_v10 : FVec F S8x128x256 .f32 := shapeCast S8x128x256 main_v9 shapeCasts_S8x32x4x256_S8x128x256
  let main_v11 : FVec F S8x128x1x256 .f32 := broadcastInDim S8x128x1x256 ![0, 1, 3] bcast_S8x128x256_S8x128x1x256_0_1_3 main_v10
  let main_v12 : FVec F S1x1x256x256 .f32 := broadcastInDim S1x1x256x256 ![2, 3] bcast_S256x256_S1x1x256x256_2_3 main_cst
  let main_v13 : FVec F S8x128x256x256 .f32 := broadcastInDim S8x128x256x256 ![0, 1, 2, 3] bcast_S8x128x1x256_S8x128x256x256_0_1_2_3 main_v11
  let main_v14 : FVec F S8x128x256x256 .f32 := broadcastInDim S8x128x256x256 ![0, 1, 2, 3] bcast_S1x1x256x256_S8x128x256x256_0_1_2_3 main_v12
  let main_v15 : FVec F S8x128x256x256 .f32 := mulf main_v13 main_v14
  let main_cst_4 : FVec F S_ .f32 := constant S_ .f32 0x00000000#32
  let main_v16 : FVec F S8x128x256 .f32 := (fun x v => Host.reduceAdd x v reducesTo_S8x128x256x256_S8x128x256_d3 h_S_) main_v15 main_cst_4
  let main_v17 : FVec F S8x128x256 .f32 := Host.absf main_v16
  fn_part1 (F := F) main_arg0 main_arg2 main_v10 main_v16 main_v17
-- ==== Kernel.lean ====
abbrev S8x256x32x32x16 : Shape := ⟨5, ![8, 256, 32, 32, 16]⟩
abbrev S_ : Shape := ⟨0, ![]⟩
abbrev S1x256x1x1x1 : Shape := ⟨5, ![1, 256, 1, 1, 1]⟩
abbrev S256x256 : Shape := ⟨2, ![256, 256]⟩
abbrev S512x4 : Shape := ⟨2, ![512, 4]⟩
abbrev S4x512 : Shape := ⟨2, ![4, 512]⟩
abbrev S8x256x32x512 : Shape := ⟨4, ![8, 256, 32, 512]⟩
abbrev S256x1 : Shape := ⟨2, ![256, 1]⟩
abbrev S1x1 : Shape := ⟨2, ![1, 1]⟩
abbrev S2x256x32x512 : Shape := ⟨4, ![2, 256, 32, 512]⟩
abbrev S4x64x32x512 : Shape := ⟨4, ![4, 64, 32, 512]⟩
abbrev S256x128 : Shape := ⟨2, ![256, 128]⟩
abbrev S32x512 : Shape := ⟨2, ![32, 512]⟩
abbrev S2 : Shape := ⟨1, ![2]⟩
abbrev S4 : Shape := ⟨1, ![4]⟩
abbrev S1 : Shape := ⟨1, ![1]⟩
abbrev S1x256x32x512 : Shape := ⟨4, ![1, 256, 32, 512]⟩
abbrev S256x32x512 : Shape := ⟨3, ![256, 32, 512]⟩
abbrev S1x256x1x512 : Shape := ⟨4, ![1, 256, 1, 512]⟩
abbrev S256x512 : Shape := ⟨2, ![256, 512]⟩
abbrev S256x4 : Shape := ⟨2, ![256, 4]⟩
abbrev S256x1x128 : Shape := ⟨3, ![256, 1, 128]⟩
abbrev S256x128x1 : Shape := ⟨3, ![256, 128, 1]⟩
abbrev S256x128x128 : Shape := ⟨3, ![256, 128, 128]⟩
abbrev S256 : Shape := ⟨1, ![256]⟩
abbrev S128 : Shape := ⟨1, ![128]⟩
abbrev S1x128 : Shape := ⟨2, ![1, 128]⟩
abbrev S1x1x128 : Shape := ⟨3, ![1, 1, 128]⟩
abbrev S1x1x1 : Shape := ⟨3, ![1, 1, 1]⟩
abbrev S1x4 : Shape := ⟨2, ![1, 4]⟩
abbrev S1x512 : Shape := ⟨2, ![1, 512]⟩
abbrev S1x64x32x512 : Shape := ⟨4, ![1, 64, 32, 512]⟩
abbrev S64x32x512 : Shape := ⟨3, ![64, 32, 512]⟩
abbrev S64x4 : Shape := ⟨2, ![64, 4]⟩
abbrev S64x512 : Shape := ⟨2, ![64, 512]⟩
abbrev S1x64x1x512 : Shape := ⟨4, ![1, 64, 1, 512]⟩

abbrev nBuf : Space → Nat
  | .hbm => 11
  | .vmem => 8
  | .smem => 1
  | _ => 0

abbrev bufTy : (tb : Table) → Fin (tcTables nBuf tb) → BufTy
  | .hbm, ⟨0, _⟩ => ⟨S8x256x32x32x16, .f32⟩
  | .hbm, ⟨1, _⟩ => ⟨S_, .f32⟩
  | .hbm, ⟨2, _⟩ => ⟨S1x256x1x1x1, .f32⟩
  | .hbm, ⟨3, _⟩ => ⟨S256x256, .f32⟩
  | .hbm, ⟨4, _⟩ => ⟨S512x4, .f32⟩
  | .hbm, ⟨5, _⟩ => ⟨S4x512, .f32⟩
  | .hbm, ⟨6, _⟩ => ⟨S8x256x32x512, .f32⟩
  | .hbm, ⟨7, _⟩ => ⟨S256x1, .f32⟩
  | .hbm, ⟨8, _⟩ => ⟨S1x1, .f32⟩
  | .hbm, ⟨9, _⟩ => ⟨S8x256x32x512, .f32⟩
  | .hbm, ⟨10, _⟩ => ⟨S8x256x32x32x16, .f32⟩
  | .local _ .vmem, ⟨0, _⟩ => ⟨S256x256, .f32⟩
  | .local _ .vmem, ⟨1, _⟩ => ⟨S512x4, .f32⟩
  | .local _ .vmem, ⟨2, _⟩ => ⟨S4x512, .f32⟩
  | .local _ .vmem, ⟨3, _⟩ => ⟨S256x1, .f32⟩
  | .local _ .vmem, ⟨4, _⟩ => ⟨S2x256x32x512, .f32⟩
  | .local _ .vmem, ⟨5, _⟩ => ⟨S4x64x32x512, .f32⟩
  | .local _ .vmem, ⟨6, _⟩ => ⟨S256x128, .f32⟩
  | .local _ .vmem, ⟨7, _⟩ => ⟨S32x512, .f32⟩
  | .local _ .smem, ⟨0, _⟩ => ⟨S1x1, .f32⟩
  | _, _ => ⟨S8x256x32x32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_cst_0 : Ref sig .tc := ⟨.hbm, 4, rfl⟩
abbrev main_call0_cst_1 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![8], ![false]⟩

def k0_off1 (i : grid0.Coords) : Fin 1 → Nat :=
  let arg0 : BitVec 32 := BitVec.ofNat 32 (i 0).val
  let c2_i32 : BitVec 32 := 2#32
  let v0 : BitVec 32 := Scalar.remsi arg0 c2_i32
  ![v0.toNat]
def k0_off2 (i : grid0.Coords) : Fin 4 → Nat :=
  let arg0 : BitVec 32 := BitVec.ofNat 32 (i 0).val
  let c2_i32 : BitVec 32 := 2#32
  let v0 : BitVec 32 := Scalar.remsi arg0 c2_i32
  let c0_i32_2 : BitVec 32 := 0#32
  let c0_i32_3 : BitVec 32 := 0#32
  let c0_i32_4 : BitVec 32 := 0#32
  ![v0.toNat, 0, 0, 0]
def k0_off3 (i : grid0.Coords) : Fin 4 → Nat :=
  let arg0 : BitVec 32 := BitVec.ofNat 32 (i 0).val
  let c0_i32_5 : BitVec 32 := 0#32
  let c0_i32_6 : BitVec 32 := 0#32
  let c0_i32_7 : BitVec 32 := 0#32
  ![arg0.toNat, 0, 0, 0]
def k0_cond2 (i : grid0.Coords) : BitVec 1 :=
  let arg0 : BitVec 32 := BitVec.ofNat 32 (i 0).val
  let c1_i32_8 : BitVec 32 := 1#32
  let v12 : BitVec 32 := Scalar.addi arg0 c1_i32_8
  let c8_i32 : BitVec 32 := 8#32
  let v13 : BitVec 1 := Scalar.cmpi .slt v12 c8_i32
  let v14 : BitVec 32 := Scalar.extui v13
  let c0_i32_9 : BitVec 32 := 0#32
  let v15 : BitVec 1 := Scalar.cmpi .ne v14 c0_i32_9
  v15

def k0_off4 (i : grid0.Coords) : Fin 1 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  ![v2.toNat]
def k0_off5 (i : grid0.Coords) : Fin 4 → Nat :=
  let arg0 : BitVec 32 := BitVec.ofNat 32 (i 0).val
  let c1_i32 : BitVec 32 := 1#32
  let v1 : BitVec 32 := Scalar.addi arg0 c1_i32
  let c2_i32_0 : BitVec 32 := 2#32
  let v2 : BitVec 32 := Scalar.remsi v1 c2_i32_0
  let c0_i32_1967 : BitVec 32 := 0#32
  let c0_i32_1968 : BitVec 32 := 0#32
  let c0_i32_1969 : BitVec 32 := 0#32
  ![v2.toNat, 0, 0, 0]
def k0_off6 (i : grid0.Coords) : Fin 4 → Nat :=
  let arg0 : BitVec 32 := BitVec.ofNat 32 (i 0).val
  let c1_i32_1966 : BitVec 32 := 1#32
  let v2222 : BitVec 32 := Scalar.addi arg0 c1_i32_1966
  let c0_i32_1970 : BitVec 32 := 0#32
  let c0_i32_1971 : BitVec 32 := 0#32
  let c0_i32_1972 : BitVec 32 := 0#32
  ![v2222.toNat, 0, 0, 0]
def k0_off7 (i : grid0.Coords) : Fin 4 → Nat :=
  let arg0 : BitVec 32 := BitVec.ofNat 32 (i 0).val
  let c2_i32 : BitVec 32 := 2#32
  let v0 : BitVec 32 := Scalar.remsi arg0 c2_i32
  let v16 : Index := Scalar.indexCast v0
  let c0 : Index := 0#32
  let c0_10 : Index := 0#32
  let c0_11 : Index := 0#32
  ![v16.toNat, 0, 0, 0]
def k0_off8 (i : grid0.Coords) : Fin 4 → Nat :=
  let arg0 : BitVec 32 := BitVec.ofNat 32 (i 0).val
  let c2_i32 : BitVec 32 := 2#32
  let v0 : BitVec 32 := Scalar.remsi arg0 c2_i32
  let v24 : Index := Scalar.indexCast v0
  let c0_16 : Index := 0#32
  let c1 : Index := 1#32
  let c0_17 : Index := 0#32
  ![v24.toNat, 0, 1, 0]
def k0_off9 (i : grid0.Coords) : Fin 4 → Nat :=
  let arg0 : BitVec 32 := BitVec.ofNat 32 (i 0).val
  let c2_i32 : BitVec 32 := 2#32
  let v0 : BitVec 32 := Scalar.remsi arg0 c2_i32
  let v32 : Index := Scalar.indexCast v0
  let c0_22 : Index := 0#32
  let c2 : Index := 2#32
  let c0_23 : Index := 0#32
  ![v32.toNat, 0, 2, 0]
def k0_off10 (i : grid0.Coords) : Fin 4 → Nat :=
  let arg0 : BitVec 32 := BitVec.ofNat 32 (i 0).val
  let c2_i32 : BitVec 32 := 2#32
  let v0 : BitVec 32 := Scalar.remsi arg0 c2_i32
  let v40 : Index := Scalar.indexCast v0
  let c0_28 : Index := 0#32
  let c3 : Index := 3#32
  let c0_29 : Index := 0#32
  ![v40.toNat, 0, 3, 0]
def k0_off11 (i : grid0.Coords) : Fin 4 → Nat :=
  let arg0 : BitVec 32 := BitVec.ofNat 32 (i 0).val
  let c2_i32 : BitVec 32 := 2#32
  let v0 : BitVec 32 := Scalar.remsi arg0 c2_i32
  let v48 : Index := Scalar.indexCast v0
  let c0_34 : Index := 0#32
  let c4_35 : Index := 4#32
  let c0_36 : Index := 0#32
  ![v48.toNat, 0, 4, 0]
def k0_off12 (i : grid0.Coords) : Fin 4 → Nat :=
  let arg0 : BitVec 32 := BitVec.ofNat 32 (i 0).val
  let c2_i32 : BitVec 32 := 2#32
  let v0 : BitVec 32 := Scalar.remsi arg0 c2_i32
  let v56 : Index := Scalar.indexCast v0
  let c0_41 : Index := 0#32
  let c5 : Index := 5#32
  let c0_42 : Index := 0#32
  ![v56.toNat, 0, 5, 0]
def k0_off13 (i : grid0.Coords) : Fin 4 → Nat :=
  let arg0 : BitVec 32 := BitVec.ofNat 32 (i 0).val
  let c2_i32 : BitVec 32 := 2#32
  let v0 : BitVec 32 := Scalar.remsi arg0 c2_i32
  let v64 : Index := Scalar.indexCast v0
  let c0_47 : Index := 0#32
  let c6 : Index := 6#32
  let c0_48 : Index := 0#32
  ![v64.toNat, 0, 6, 0]
def k0_off14 (i : grid0.Coords) : Fin 4 → Nat :=
  let arg0 : BitVec 32 := BitVec.ofNat 32 (i 0).val
  let c2_i32 : BitVec 32 := 2#32
  let v0 : BitVec 32 := Scalar.remsi arg0 c2_i32
  let v72 : Index := Scalar.indexCast v0
  let c0_53 : Index := 0#32
  let c7 : Index := 7#32
  let c0_54 : Index := 0#32
  ![v72.toNat, 0, 7, 0]
def k0_off15 (i : grid0.Coords) : Fin 4 → Nat :=
  let arg0 : BitVec 32 := BitVec.ofNat 32 (i 0).val
  let c2_i32 : BitVec 32 := 2#32
  let v0 : BitVec 32 := Scalar.remsi arg0 c2_i32
  let v80 : Index := Scalar.indexCast v0
  let c0_59 : Index := 0#32
  let c8_60 : Index := 8#32
  let c0_61 : Index := 0#32
  ![v80.toNat, 0, 8, 0]
def k0_off16 (i : grid0.Coords) : Fin 4 → Nat :=
  let arg0 : BitVec 32 := BitVec.ofNat 32 (i 0).val
  let c2_i32 : BitVec 32 := 2#32
  let v0 : BitVec 32 := Scalar.remsi arg0 c2_i32
  let v88 : Index := Scalar.indexCast v0
  let c0_66 : Index := 0#32
  let c9 : Index := 9#32
  let c0_67 : Index := 0#32
  ![v88.toNat, 0, 9, 0]
def k0_off17 (i : grid0.Coords) : Fin 4 → Nat :=
  let arg0 : BitVec 32 := BitVec.ofNat 32 (i 0).val
  let c2_i32 : BitVec 32 := 2#32
  let v0 : BitVec 32 := Scalar.remsi arg0 c2_i32
  let v96 : Index := Scalar.indexCast v0
  let c0_72 : Index := 0#32
  let c10 : Index := 10#32
  let c0_73 : Index := 0#32
  ![v96.toNat, 0, 10, 0]
def k0_off18 (i : grid0.Coords) : Fin 4 → Nat :=
  let arg0 : BitVec 32 := BitVec.ofNat 32 (i 0).val
  let c2_i32 : BitVec 32 := 2#32
  let v0 : BitVec 32 := Scalar.remsi arg0 c2_i32
  let v104 : Index := Scalar.indexCast v0
  let c0_78 : Index := 0#32
  let c11 : Index := 11#32
  let c0_79 : Index := 0#32
  ![v104.toNat, 0, 11, 0]
def k0_off19 (i : grid0.Coords) : Fin 4 → Nat :=
  let arg0 : BitVec 32 := BitVec.ofNat 32 (i 0).val
  let c2_i32 : BitVec 32 := 2#32
  let v0 : BitVec 32 := Scalar.remsi arg0 c2_i32
  let v112 : Index := Scalar.indexCast v0
  let c0_84 : Index := 0#32
  let c12_85 : Index := 12#32
  let c0_86 : Index := 0#32
  ![v112.toNat, 0, 12, 0]
def k0_off20 (i : grid0.Coords) : Fin 4 → Nat :=
  let arg0 : BitVec 32 := BitVec.ofNat 32 (i 0).val
  let c2_i32 : BitVec 32 := 2#32
  let v0 : BitVec 32 := Scalar.remsi arg0 c2_i32
  let v120 : Index := Scalar.indexCast v0
  let c0_91 : Index := 0#32
  let c13 : Index := 13#32
  let c0_92 : Index := 0#32
  ![v120.toNat, 0, 13, 0]
def k0_off21 (i : grid0.Coords) : Fin 4 → Nat :=
  let arg0 : BitVec 32 := BitVec.ofNat 32 (i 0).val
  let c2_i32 : BitVec 32 := 2#32
  let v0 : BitVec 32 := Scalar.remsi arg0 c2_i32
  let v128 : Index := Scalar.indexCast v0
  let c0_97 : Index := 0#32
  let c14 : Index := 14#32
  let c0_98 : Index := 0#32
  ![v128.toNat, 0, 14, 0]
def k0_off22 (i : grid0.Coords) : Fin 4 → Nat :=
  let arg0 : BitVec 32 := BitVec.ofNat 32 (i 0).val
  let c2_i32 : BitVec 32 := 2#32
  let v0 : BitVec 32 := Scalar.remsi arg0 c2_i32
  let v136 : Index := Scalar.indexCast v0
  let c0_103 : Index := 0#32
  let c15 : Index := 15#32
  let c0_104 : Index := 0#32
  ![v136.toNat, 0, 15, 0]
def k0_off23 (i : grid0.Coords) : Fin 4 → Nat :=
  let arg0 : BitVec 32 := BitVec.ofNat 32 (i 0).val
  let c2_i32 : BitVec 32 := 2#32
  let v0 : BitVec 32 := Scalar.remsi arg0 c2_i32
  let v144 : Index := Scalar.indexCast v0
  let c0_109 : Index := 0#32
  let c16_110 : Index := 16#32
  let c0_111 : Index := 0#32
  ![v144.toNat, 0, 16, 0]
def k0_off24 (i : grid0.Coords) : Fin 4 → Nat :=
  let arg0 : BitVec 32 := BitVec.ofNat 32 (i 0).val
  let c2_i32 : BitVec 32 := 2#32
  let v0 : BitVec 32 := Scalar.remsi arg0 c2_i32
  let v152 : Index := Scalar.indexCast v0
  let c0_116 : Index := 0#32
  let c17 : Index := 17#32
  let c0_117 : Index := 0#32
  ![v152.toNat, 0, 17, 0]
def k0_off25 (i : grid0.Coords) : Fin 4 → Nat :=
  let arg0 : BitVec 32 := BitVec.ofNat 32 (i 0).val
  let c2_i32 : BitVec 32 := 2#32
  let v0 : BitVec 32 := Scalar.remsi arg0 c2_i32
  let v160 : Index := Scalar.indexCast v0
  let c0_122 : Index := 0#32
  let c18 : Index := 18#32
  let c0_123 : Index := 0#32
  ![v160.toNat, 0, 18, 0]
def k0_off26 (i : grid0.Coords) : Fin 4 → Nat :=
  let arg0 : BitVec 32 := BitVec.ofNat 32 (i 0).val
  let c2_i32 : BitVec 32 := 2#32
  let v0 : BitVec 32 := Scalar.remsi arg0 c2_i32
  let v168 : Index := Scalar.indexCast v0
  let c0_128 : Index := 0#32
  let c19 : Index := 19#32
  let c0_129 : Index := 0#32
  ![v168.toNat, 0, 19, 0]
def k0_off27 (i : grid0.Coords) : Fin 4 → Nat :=
  let arg0 : BitVec 32 := BitVec.ofNat 32 (i 0).val
  let c2_i32 : BitVec 32 := 2#32
  let v0 : BitVec 32 := Scalar.remsi arg0 c2_i32
  let v176 : Index := Scalar.indexCast v0
  let c0_134 : Index := 0#32
  let c20_135 : Index := 20#32
  let c0_136 : Index := 0#32
  ![v176.toNat, 0, 20, 0]
def k0_off28 (i : grid0.Coords) : Fin 4 → Nat :=
  let arg0 : BitVec 32 := BitVec.ofNat 32 (i 0).val
  let c2_i32 : BitVec 32 := 2#32
  let v0 : BitVec 32 := Scalar.remsi arg0 c2_i32
  let v184 : Index := Scalar.indexCast v0
  let c0_141 : Index := 0#32
  let c21 : Index := 21#32
  let c0_142 : Index := 0#32
  ![v184.toNat, 0, 21, 0]
def k0_off29 (i : grid0.Coords) : Fin 4 → Nat :=
  let arg0 : BitVec 32 := BitVec.ofNat 32 (i 0).val
  let c2_i32 : BitVec 32 := 2#32
  let v0 : BitVec 32 := Scalar.remsi arg0 c2_i32
  let v192 : Index := Scalar.indexCast v0
  let c0_147 : Index := 0#32
  let c22 : Index := 22#32
  let c0_148 : Index := 0#32
  ![v192.toNat, 0, 22, 0]
def k0_off30 (i : grid0.Coords) : Fin 4 → Nat :=
  let arg0 : BitVec 32 := BitVec.ofNat 32 (i 0).val
  let c2_i32 : BitVec 32 := 2#32
  let v0 : BitVec 32 := Scalar.remsi arg0 c2_i32
  let v200 : Index := Scalar.indexCast v0
  let c0_153 : Index := 0#32
  let c23 : Index := 23#32
  let c0_154 : Index := 0#32
  ![v200.toNat, 0, 23, 0]
def k0_off31 (i : grid0.Coords) : Fin 4 → Nat :=
  let arg0 : BitVec 32 := BitVec.ofNat 32 (i 0).val
  let c2_i32 : BitVec 32 := 2#32
  let v0 : BitVec 32 := Scalar.remsi arg0 c2_i32
  let v208 : Index := Scalar.indexCast v0
  let c0_159 : Index := 0#32
  let c24_160 : Index := 24#32
  let c0_161 : Index := 0#32
  ![v208.toNat, 0, 24, 0]
def k0_off32 (i : grid0.Coords) : Fin 4 → Nat :=
  let arg0 : BitVec 32 := BitVec.ofNat 32 (i 0).val
  let c2_i32 : BitVec 32 := 2#32
  let v0 : BitVec 32 := Scalar.remsi arg0 c2_i32
  let v216 : Index := Scalar.indexCast v0
  let c0_166 : Index := 0#32
  let c25 : Index := 25#32
  let c0_167 : Index := 0#32
  ![v216.toNat, 0, 25, 0]
def k0_off33 (i : grid0.Coords) : Fin 4 → Nat :=
  let arg0 : BitVec 32 := BitVec.ofNat 32 (i 0).val
  let c2_i32 : BitVec 32 := 2#32
  let v0 : BitVec 32 := Scalar.remsi arg0 c2_i32
  let v224 : Index := Scalar.indexCast v0
  let c0_172 : Index := 0#32
  let c26 : Index := 26#32
  let c0_173 : Index := 0#32
  ![v224.toNat, 0, 26, 0]
def k0_off34 (i : grid0.Coords) : Fin 4 → Nat :=
  let arg0 : BitVec 32 := BitVec.ofNat 32 (i 0).val
  let c2_i32 : BitVec 32 := 2#32
  let v0 : BitVec 32 := Scalar.remsi arg0 c2_i32
  let v232 : Index := Scalar.indexCast v0
  let c0_178 : Index := 0#32
  let c27 : Index := 27#32
  let c0_179 : Index := 0#32
  ![v232.toNat, 0, 27, 0]
def k0_off35 (i : grid0.Coords) : Fin 4 → Nat :=
  let arg0 : BitVec 32 := BitVec.ofNat 32 (i 0).val
  let c2_i32 : BitVec 32 := 2#32
  let v0 : BitVec 32 := Scalar.remsi arg0 c2_i32
  let v240 : Index := Scalar.indexCast v0
  let c0_184 : Index := 0#32
  let c28_185 : Index := 28#32
  let c0_186 : Index := 0#32
  ![v240.toNat, 0, 28, 0]
def k0_off36 (i : grid0.Coords) : Fin 4 → Nat :=
  let arg0 : BitVec 32 := BitVec.ofNat 32 (i 0).val
  let c2_i32 : BitVec 32 := 2#32
  let v0 : BitVec 32 := Scalar.remsi arg0 c2_i32
  let v248 : Index := Scalar.indexCast v0
  let c0_191 : Index := 0#32
  let c29 : Index := 29#32
  let c0_192 : Index := 0#32
  ![v248.toNat, 0, 29, 0]
def k0_off37 (i : grid0.Coords) : Fin 4 → Nat :=
  let arg0 : BitVec 32 := BitVec.ofNat 32 (i 0).val
  let c2_i32 : BitVec 32 := 2#32
  let v0 : BitVec 32 := Scalar.remsi arg0 c2_i32
  let v256 : Index := Scalar.indexCast v0
  let c0_197 : Index := 0#32
  let c30 : Index := 30#32
  let c0_198 : Index := 0#32
  ![v256.toNat, 0, 30, 0]
def k0_off38 (i : grid0.Coords) : Fin 4 → Nat :=
  let arg0 : BitVec 32 := BitVec.ofNat 32 (i 0).val
  let c2_i32 : BitVec 32 := 2#32
  let v0 : BitVec 32 := Scalar.remsi arg0 c2_i32
  let v264 : Index := Scalar.indexCast v0
  let c0_203 : Index := 0#32
  let c31 : Index := 31#32
  let c0_204 : Index := 0#32
  ![v264.toNat, 0, 31, 0]
@[reducible] def k0_t1_loop : Scf.Loop 32 :=
  let c0_i32_218 : BitVec 32 := 0#32
  let c31_i32 : BitVec 32 := 31#32
  let v292 : BitVec 32 := Scalar.addi c0_i32_218 c31_i32
  let c1_i32_219 : BitVec 32 := 1#32
  ⟨c0_i32_218, v292, c1_i32_219⟩
def k0_cond3 (i : grid0.Coords) : BitVec 1 :=
  let arg0 : BitVec 32 := BitVec.ofNat 32 (i 0).val
  let c0_i32_395 : BitVec 32 := 0#32
  let v519 : BitVec 1 := Scalar.cmpi .sgt arg0 c0_i32_395
  let v520 : BitVec 32 := Scalar.extui v519
  let c0_i32_396 : BitVec 32 := 0#32
  let v521 : BitVec 1 := Scalar.cmpi .ne v520 c0_i32_396
  v521

def k0_off39 (i : grid0.Coords) : Fin 4 → Nat :=
  let arg0 : BitVec 32 := BitVec.ofNat 32 (i 0).val
  let c0_i32_1968 : BitVec 32 := 0#32
  let c0_i32_1969 : BitVec 32 := 0#32
  let c0_i32_1970 : BitVec 32 := 0#32
  ![arg0.toNat, 0, 0, 0]
def k0_off40 (i : grid0.Coords) : Fin 4 → Nat :=
  let arg0 : BitVec 32 := BitVec.ofNat 32 (i 0).val
  let c2_i32 : BitVec 32 := 2#32
  let v0 : BitVec 32 := Scalar.remsi arg0 c2_i32
  let v525 : Index := Scalar.indexCast v0
  let c0_400 : Index := 0#32
  let c0_401 : Index := 0#32
  let c0_402 : Index := 0#32
  ![v525.toNat, 0, 0, 0]
def k0_off41 (i : grid0.Coords) : Fin 4 → Nat :=
  let arg0 : BitVec 32 := BitVec.ofNat 32 (i 0).val
  let c2_i32 : BitVec 32 := 2#32
  let v0 : BitVec 32 := Scalar.remsi arg0 c2_i32
  let v538 : Index := Scalar.indexCast v0
  let c0_412 : Index := 0#32
  let c1_413 : Index := 1#32
  let c0_414 : Index := 0#32
  ![v538.toNat, 0, 1, 0]
def k0_off42 (i : grid0.Coords) : Fin 4 → Nat :=
  let arg0 : BitVec 32 := BitVec.ofNat 32 (i 0).val
  let c2_i32 : BitVec 32 := 2#32
  let v0 : BitVec 32 := Scalar.remsi arg0 c2_i32
  let v551 : Index := Scalar.indexCast v0
  let c0_424 : Index := 0#32
  let c2_425 : Index := 2#32
  let c0_426 : Index := 0#32
  ![v551.toNat, 0, 2, 0]
def k0_off43 (i : grid0.Coords) : Fin 4 → Nat :=
  let arg0 : BitVec 32 := BitVec.ofNat 32 (i 0).val
  let c2_i32 : BitVec 32 := 2#32
  let v0 : BitVec 32 := Scalar.remsi arg0 c2_i32
  let v564 : Index := Scalar.indexCast v0
  let c0_436 : Index := 0#32
  let c3_437 : Index := 3#32
  let c0_438 : Index := 0#32
  ![v564.toNat, 0, 3, 0]
def k0_off44 (i : grid0.Coords) : Fin 4 → Nat :=
  let arg0 : BitVec 32 := BitVec.ofNat 32 (i 0).val
  let c2_i32 : BitVec 32 := 2#32
  let v0 : BitVec 32 := Scalar.remsi arg0 c2_i32
  let v577 : Index := Scalar.indexCast v0
  let c0_448 : Index := 0#32
  let c4_449 : Index := 4#32
  let c0_450 : Index := 0#32
  ![v577.toNat, 0, 4, 0]
def k0_off45 (i : grid0.Coords) : Fin 4 → Nat :=
  let arg0 : BitVec 32 := BitVec.ofNat 32 (i 0).val
  let c2_i32 : BitVec 32 := 2#32
  let v0 : BitVec 32 := Scalar.remsi arg0 c2_i32
  let v590 : Index := Scalar.indexCast v0
  let c0_460 : Index := 0#32
  let c5_461 : Index := 5#32
  let c0_462 : Index := 0#32
  ![v590.toNat, 0, 5, 0]
def k0_off46 (i : grid0.Coords) : Fin 4 → Nat :=
  let arg0 : BitVec 32 := BitVec.ofNat 32 (i 0).val
  let c2_i32 : BitVec 32 := 2#32
  let v0 : BitVec 32 := Scalar.remsi arg0 c2_i32
  let v603 : Index := Scalar.indexCast v0
  let c0_472 : Index := 0#32
  let c6_473 : Index := 6#32
  let c0_474 : Index := 0#32
  ![v603.toNat, 0, 6, 0]
def k0_off47 (i : grid0.Coords) : Fin 4 → Nat :=
  let arg0 : BitVec 32 := BitVec.ofNat 32 (i 0).val
  let c2_i32 : BitVec 32 := 2#32
  let v0 : BitVec 32 := Scalar.remsi arg0 c2_i32
  let v616 : Index := Scalar.indexCast v0
  let c0_484 : Index := 0#32
  let c7_485 : Index := 7#32
  let c0_486 : Index := 0#32
  ![v616.toNat, 0, 7, 0]
def k0_off48 (i : grid0.Coords) : Fin 4 → Nat :=
  let arg0 : BitVec 32 := BitVec.ofNat 32 (i 0).val
  let c2_i32 : BitVec 32 := 2#32
  let v0 : BitVec 32 := Scalar.remsi arg0 c2_i32
  let v629 : Index := Scalar.indexCast v0
  let c0_496 : Index := 0#32
  let c8_497 : Index := 8#32
  let c0_498 : Index := 0#32
  ![v629.toNat, 0, 8, 0]
def k0_off49 (i : grid0.Coords) : Fin 4 → Nat :=
  let arg0 : BitVec 32 := BitVec.ofNat 32 (i 0).val
  let c2_i32 : BitVec 32 := 2#32
  let v0 : BitVec 32 := Scalar.remsi arg0 c2_i32
  let v642 : Index := Scalar.indexCast v0
  let c0_508 : Index := 0#32
  let c9_509 : Index := 9#32
  let c0_510 : Index := 0#32
  ![v642.toNat, 0, 9, 0]
def k0_off50 (i : grid0.Coords) : Fin 4 → Nat :=
  let arg0 : BitVec 32 := BitVec.ofNat 32 (i 0).val
  let c2_i32 : BitVec 32 := 2#32
  let v0 : BitVec 32 := Scalar.remsi arg0 c2_i32
  let v655 : Index := Scalar.indexCast v0
  let c0_520 : Index := 0#32
  let c10_521 : Index := 10#32
  let c0_522 : Index := 0#32
  ![v655.toNat, 0, 10, 0]
def k0_off51 (i : grid0.Coords) : Fin 4 → Nat :=
  let arg0 : BitVec 32 := BitVec.ofNat 32 (i 0).val
  let c2_i32 : BitVec 32 := 2#32
  let v0 : BitVec 32 := Scalar.remsi arg0 c2_i32
  let v668 : Index := Scalar.indexCast v0
  let c0_532 : Index := 0#32
  let c11_533 : Index := 11#32
  let c0_534 : Index := 0#32
  ![v668.toNat, 0, 11, 0]
def k0_off52 (i : grid0.Coords) : Fin 4 → Nat :=
  let arg0 : BitVec 32 := BitVec.ofNat 32 (i 0).val
  let c2_i32 : BitVec 32 := 2#32
  let v0 : BitVec 32 := Scalar.remsi arg0 c2_i32
  let v681 : Index := Scalar.indexCast v0
  let c0_544 : Index := 0#32
  let c12_545 : Index := 12#32
  let c0_546 : Index := 0#32
  ![v681.toNat, 0, 12, 0]
def k0_off53 (i : grid0.Coords) : Fin 4 → Nat :=
  let arg0 : BitVec 32 := BitVec.ofNat 32 (i 0).val
  let c2_i32 : BitVec 32 := 2#32
  let v0 : BitVec 32 := Scalar.remsi arg0 c2_i32
  let v694 : Index := Scalar.indexCast v0
  let c0_556 : Index := 0#32
  let c13_557 : Index := 13#32
  let c0_558 : Index := 0#32
  ![v694.toNat, 0, 13, 0]
def k0_off54 (i : grid0.Coords) : Fin 4 → Nat :=
  let arg0 : BitVec 32 := BitVec.ofNat 32 (i 0).val
  let c2_i32 : BitVec 32 := 2#32
  let v0 : BitVec 32 := Scalar.remsi arg0 c2_i32
  let v707 : Index := Scalar.indexCast v0
  let c0_568 : Index := 0#32
  let c14_569 : Index := 14#32
  let c0_570 : Index := 0#32
  ![v707.toNat, 0, 14, 0]
def k0_off55 (i : grid0.Coords) : Fin 4 → Nat :=
  let arg0 : BitVec 32 := BitVec.ofNat 32 (i 0).val
  let c2_i32 : BitVec 32 := 2#32
  let v0 : BitVec 32 := Scalar.remsi arg0 c2_i32
  let v720 : Index := Scalar.indexCast v0
  let c0_580 : Index := 0#32
  let c15_581 : Index := 15#32
  let c0_582 : Index := 0#32
  ![v720.toNat, 0, 15, 0]
def k0_off56 (i : grid0.Coords) : Fin 4 → Nat :=
  let arg0 : BitVec 32 := BitVec.ofNat 32 (i 0).val
  let c2_i32 : BitVec 32 := 2#32
  let v0 : BitVec 32 := Scalar.remsi arg0 c2_i32
  let v733 : Index := Scalar.indexCast v0
  let c0_592 : Index := 0#32
  let c16_593 : Index := 16#32
  let c0_594 : Index := 0#32
  ![v733.toNat, 0, 16, 0]
def k0_off57 (i : grid0.Coords) : Fin 4 → Nat :=
  let arg0 : BitVec 32 := BitVec.ofNat 32 (i 0).val
  let c2_i32 : BitVec 32 := 2#32
  let v0 : BitVec 32 := Scalar.remsi arg0 c2_i32
  let v746 : Index := Scalar.indexCast v0
  let c0_604 : Index := 0#32
  let c17_605 : Index := 17#32
  let c0_606 : Index := 0#32
  ![v746.toNat, 0, 17, 0]
def k0_off58 (i : grid0.Coords) : Fin 4 → Nat :=
  let arg0 : BitVec 32 := BitVec.ofNat 32 (i 0).val
  let c2_i32 : BitVec 32 := 2#32
  let v0 : BitVec 32 := Scalar.remsi arg0 c2_i32
  let v759 : Index := Scalar.indexCast v0
  let c0_616 : Index := 0#32
  let c18_617 : Index := 18#32
  let c0_618 : Index := 0#32
  ![v759.toNat, 0, 18, 0]
def k0_off59 (i : grid0.Coords) : Fin 4 → Nat :=
  let arg0 : BitVec 32 := BitVec.ofNat 32 (i 0).val
  let c2_i32 : BitVec 32 := 2#32
  let v0 : BitVec 32 := Scalar.remsi arg0 c2_i32
  let v772 : Index := Scalar.indexCast v0
  let c0_628 : Index := 0#32
  let c19_629 : Index := 19#32
  let c0_630 : Index := 0#32
  ![v772.toNat, 0, 19, 0]
def k0_off60 (i : grid0.Coords) : Fin 4 → Nat :=
  let arg0 : BitVec 32 := BitVec.ofNat 32 (i 0).val
  let c2_i32 : BitVec 32 := 2#32
  let v0 : BitVec 32 := Scalar.remsi arg0 c2_i32
  let v785 : Index := Scalar.indexCast v0
  let c0_640 : Index := 0#32
  let c20_641 : Index := 20#32
  let c0_642 : Index := 0#32
  ![v785.toNat, 0, 20, 0]
def k0_off61 (i : grid0.Coords) : Fin 4 → Nat :=
  let arg0 : BitVec 32 := BitVec.ofNat 32 (i 0).val
  let c2_i32 : BitVec 32 := 2#32
  let v0 : BitVec 32 := Scalar.remsi arg0 c2_i32
  let v798 : Index := Scalar.indexCast v0
  let c0_652 : Index := 0#32
  let c21_653 : Index := 21#32
  let c0_654 : Index := 0#32
  ![v798.toNat, 0, 21, 0]
def k0_off62 (i : grid0.Coords) : Fin 4 → Nat :=
  let arg0 : BitVec 32 := BitVec.ofNat 32 (i 0).val
  let c2_i32 : BitVec 32 := 2#32
  let v0 : BitVec 32 := Scalar.remsi arg0 c2_i32
  let v811 : Index := Scalar.indexCast v0
  let c0_664 : Index := 0#32
  let c22_665 : Index := 22#32
  let c0_666 : Index := 0#32
  ![v811.toNat, 0, 22, 0]
def k0_off63 (i : grid0.Coords) : Fin 4 → Nat :=
  let arg0 : BitVec 32 := BitVec.ofNat 32 (i 0).val
  let c2_i32 : BitVec 32 := 2#32
  let v0 : BitVec 32 := Scalar.remsi arg0 c2_i32
  let v824 : Index := Scalar.indexCast v0
  let c0_676 : Index := 0#32
  let c23_677 : Index := 23#32
  let c0_678 : Index := 0#32
  ![v824.toNat, 0, 23, 0]
def k0_off64 (i : grid0.Coords) : Fin 4 → Nat :=
  let arg0 : BitVec 32 := BitVec.ofNat 32 (i 0).val
  let c2_i32 : BitVec 32 := 2#32
  let v0 : BitVec 32 := Scalar.remsi arg0 c2_i32
  let v837 : Index := Scalar.indexCast v0
  let c0_688 : Index := 0#32
  let c24_689 : Index := 24#32
  let c0_690 : Index := 0#32
  ![v837.toNat, 0, 24, 0]
def k0_off65 (i : grid0.Coords) : Fin 4 → Nat :=
  let arg0 : BitVec 32 := BitVec.ofNat 32 (i 0).val
  let c2_i32 : BitVec 32 := 2#32
  let v0 : BitVec 32 := Scalar.remsi arg0 c2_i32
  let v850 : Index := Scalar.indexCast v0
  let c0_700 : Index := 0#32
  let c25_701 : Index := 25#32
  let c0_702 : Index := 0#32
  ![v850.toNat, 0, 25, 0]
def k0_off66 (i : grid0.Coords) : Fin 4 → Nat :=
  let arg0 : BitVec 32 := BitVec.ofNat 32 (i 0).val
  let c2_i32 : BitVec 32 := 2#32
  let v0 : BitVec 32 := Scalar.remsi arg0 c2_i32
  let v863 : Index := Scalar.indexCast v0
  let c0_712 : Index := 0#32
  let c26_713 : Index := 26#32
  let c0_714 : Index := 0#32
  ![v863.toNat, 0, 26, 0]
def k0_off67 (i : grid0.Coords) : Fin 4 → Nat :=
  let arg0 : BitVec 32 := BitVec.ofNat 32 (i 0).val
  let c2_i32 : BitVec 32 := 2#32
  let v0 : BitVec 32 := Scalar.remsi arg0 c2_i32
  let v876 : Index := Scalar.indexCast v0
  let c0_724 : Index := 0#32
  let c27_725 : Index := 27#32
  let c0_726 : Index := 0#32
  ![v876.toNat, 0, 27, 0]
def k0_off68 (i : grid0.Coords) : Fin 4 → Nat :=
  let arg0 : BitVec 32 := BitVec.ofNat 32 (i 0).val
  let c2_i32 : BitVec 32 := 2#32
  let v0 : BitVec 32 := Scalar.remsi arg0 c2_i32
  let v889 : Index := Scalar.indexCast v0
  let c0_736 : Index := 0#32
  let c28_737 : Index := 28#32
  let c0_738 : Index := 0#32
  ![v889.toNat, 0, 28, 0]
def k0_off69 (i : grid0.Coords) : Fin 4 → Nat :=
  let arg0 : BitVec 32 := BitVec.ofNat 32 (i 0).val
  let c2_i32 : BitVec 32 := 2#32
  let v0 : BitVec 32 := Scalar.remsi arg0 c2_i32
  let v902 : Index := Scalar.indexCast v0
  let c0_748 : Index := 0#32
  let c29_749 : Index := 29#32
  let c0_750 : Index := 0#32
  ![v902.toNat, 0, 29, 0]
def k0_off70 (i : grid0.Coords) : Fin 4 → Nat :=
  let arg0 : BitVec 32 := BitVec.ofNat 32 (i 0).val
  let c2_i32 : BitVec 32 := 2#32
  let v0 : BitVec 32 := Scalar.remsi arg0 c2_i32
  let v915 : Index := Scalar.indexCast v0
  let c0_760 : Index := 0#32
  let c30_761 : Index := 30#32
  let c0_762 : Index := 0#32
  ![v915.toNat, 0, 30, 0]
def k0_off71 (i : grid0.Coords) : Fin 4 → Nat :=
  let arg0 : BitVec 32 := BitVec.ofNat 32 (i 0).val
  let c2_i32 : BitVec 32 := 2#32
  let v0 : BitVec 32 := Scalar.remsi arg0 c2_i32
  let v928 : Index := Scalar.indexCast v0
  let c0_772 : Index := 0#32
  let c31_773 : Index := 31#32
  let c0_774 : Index := 0#32
  ![v928.toNat, 0, 31, 0]
def k0_off72 (i : grid0.Coords) : Fin 4 → Nat :=
  let arg0 : BitVec 32 := BitVec.ofNat 32 (i 0).val
  let c0_i32_783 : BitVec 32 := 0#32
  let c0_i32_784 : BitVec 32 := 0#32
  let c0_i32_785 : BitVec 32 := 0#32
  ![arg0.toNat, 0, 0, 0]
def k0_cond4 (i : grid0.Coords) : BitVec 1 :=
  let arg0 : BitVec 32 := BitVec.ofNat 32 (i 0).val
  let c0_i32_789 : BitVec 32 := 0#32
  let v944 : BitVec 1 := Scalar.cmpi .sgt arg0 c0_i32_789
  let v945 : BitVec 32 := Scalar.extui v944
  let c0_i32_790 : BitVec 32 := 0#32
  let v946 : BitVec 1 := Scalar.cmpi .ne v945 c0_i32_790
  v946

def k0_off73 (i : grid0.Coords) : Fin 4 → Nat :=
  let arg0 : BitVec 32 := BitVec.ofNat 32 (i 0).val
  let c64_i32_1968 : BitVec 32 := 64#32
  let c0_i32_1969 : BitVec 32 := 0#32
  let c0_i32_1970 : BitVec 32 := 0#32
  ![arg0.toNat, 64, 0, 0]
def k0_off74 (i : grid0.Coords) : Fin 4 → Nat :=
  let arg0 : BitVec 32 := BitVec.ofNat 32 (i 0).val
  let c2_i32 : BitVec 32 := 2#32
  let v0 : BitVec 32 := Scalar.remsi arg0 c2_i32
  let v950 : Index := Scalar.indexCast v0
  let c64_794 : Index := 64#32
  let c0_795 : Index := 0#32
  let c0_796 : Index := 0#32
  ![v950.toNat, 64, 0, 0]
def k0_off75 (i : grid0.Coords) : Fin 4 → Nat :=
  let arg0 : BitVec 32 := BitVec.ofNat 32 (i 0).val
  let c2_i32 : BitVec 32 := 2#32
  let v0 : BitVec 32 := Scalar.remsi arg0 c2_i32
  let v963 : Index := Scalar.indexCast v0
  let c64_806 : Index := 64#32
  let c1_807 : Index := 1#32
  let c0_808 : Index := 0#32
  ![v963.toNat, 64, 1, 0]
def k0_off76 (i : grid0.Coords) : Fin 4 → Nat :=
  let arg0 : BitVec 32 := BitVec.ofNat 32 (i 0).val
  let c2_i32 : BitVec 32 := 2#32
  let v0 : BitVec 32 := Scalar.remsi arg0 c2_i32
  let v976 : Index := Scalar.indexCast v0
  let c64_818 : Index := 64#32
  let c2_819 : Index := 2#32
  let c0_820 : Index := 0#32
  ![v976.toNat, 64, 2, 0]
def k0_off77 (i : grid0.Coords) : Fin 4 → Nat :=
  let arg0 : BitVec 32 := BitVec.ofNat 32 (i 0).val
  let c2_i32 : BitVec 32 := 2#32
  let v0 : BitVec 32 := Scalar.remsi arg0 c2_i32
  let v989 : Index := Scalar.indexCast v0
  let c64_830 : Index := 64#32
  let c3_831 : Index := 3#32
  let c0_832 : Index := 0#32
  ![v989.toNat, 64, 3, 0]
def k0_off78 (i : grid0.Coords) : Fin 4 → Nat :=
  let arg0 : BitVec 32 := BitVec.ofNat 32 (i 0).val
  let c2_i32 : BitVec 32 := 2#32
  let v0 : BitVec 32 := Scalar.remsi arg0 c2_i32
  let v1002 : Index := Scalar.indexCast v0
  let c64_842 : Index := 64#32
  let c4_843 : Index := 4#32
  let c0_844 : Index := 0#32
  ![v1002.toNat, 64, 4, 0]
def k0_off79 (i : grid0.Coords) : Fin 4 → Nat :=
  let arg0 : BitVec 32 := BitVec.ofNat 32 (i 0).val
  let c2_i32 : BitVec 32 := 2#32
  let v0 : BitVec 32 := Scalar.remsi arg0 c2_i32
  let v1015 : Index := Scalar.indexCast v0
  let c64_854 : Index := 64#32
  let c5_855 : Index := 5#32
  let c0_856 : Index := 0#32
  ![v1015.toNat, 64, 5, 0]
def k0_off80 (i : grid0.Coords) : Fin 4 → Nat :=
  let arg0 : BitVec 32 := BitVec.ofNat 32 (i 0).val
  let c2_i32 : BitVec 32 := 2#32
  let v0 : BitVec 32 := Scalar.remsi arg0 c2_i32
  let v1028 : Index := Scalar.indexCast v0
  let c64_866 : Index := 64#32
  let c6_867 : Index := 6#32
  let c0_868 : Index := 0#32
  ![v1028.toNat, 64, 6, 0]
def k0_off81 (i : grid0.Coords) : Fin 4 → Nat :=
  let arg0 : BitVec 32 := BitVec.ofNat 32 (i 0).val
  let c2_i32 : BitVec 32 := 2#32
  let v0 : BitVec 32 := Scalar.remsi arg0 c2_i32
  let v1041 : Index := Scalar.indexCast v0
  let c64_878 : Index := 64#32
  let c7_879 : Index := 7#32
  let c0_880 : Index := 0#32
  ![v1041.toNat, 64, 7, 0]
def k0_off82 (i : grid0.Coords) : Fin 4 → Nat :=
  let arg0 : BitVec 32 := BitVec.ofNat 32 (i 0).val
  let c2_i32 : BitVec 32 := 2#32
  let v0 : BitVec 32 := Scalar.remsi arg0 c2_i32
  let v1054 : Index := Scalar.indexCast v0
  let c64_890 : Index := 64#32
  let c8_891 : Index := 8#32
  let c0_892 : Index := 0#32
  ![v1054.toNat, 64, 8, 0]
def k0_off83 (i : grid0.Coords) : Fin 4 → Nat :=
  let arg0 : BitVec 32 := BitVec.ofNat 32 (i 0).val
  let c2_i32 : BitVec 32 := 2#32
  let v0 : BitVec 32 := Scalar.remsi arg0 c2_i32
  let v1067 : Index := Scalar.indexCast v0
  let c64_902 : Index := 64#32
  let c9_903 : Index := 9#32
  let c0_904 : Index := 0#32
  ![v1067.toNat, 64, 9, 0]
def k0_off84 (i : grid0.Coords) : Fin 4 → Nat :=
  let arg0 : BitVec 32 := BitVec.ofNat 32 (i 0).val
  let c2_i32 : BitVec 32 := 2#32
  let v0 : BitVec 32 := Scalar.remsi arg0 c2_i32
  let v1080 : Index := Scalar.indexCast v0
  let c64_914 : Index := 64#32
  let c10_915 : Index := 10#32
  let c0_916 : Index := 0#32
  ![v1080.toNat, 64, 10, 0]
def k0_off85 (i : grid0.Coords) : Fin 4 → Nat :=
  let arg0 : BitVec 32 := BitVec.ofNat 32 (i 0).val
  let c2_i32 : BitVec 32 := 2#32
  let v0 : BitVec 32 := Scalar.remsi arg0 c2_i32
  let v1093 : Index := Scalar.indexCast v0
  let c64_926 : Index := 64#32
  let c11_927 : Index := 11#32
  let c0_928 : Index := 0#32
  ![v1093.toNat, 64, 11, 0]
def k0_off86 (i : grid0.Coords) : Fin 4 → Nat :=
  let arg0 : BitVec 32 := BitVec.ofNat 32 (i 0).val
  let c2_i32 : BitVec 32 := 2#32
  let v0 : BitVec 32 := Scalar.remsi arg0 c2_i32
  let v1106 : Index := Scalar.indexCast v0
  let c64_938 : Index := 64#32
  let c12_939 : Index := 12#32
  let c0_940 : Index := 0#32
  ![v1106.toNat, 64, 12, 0]
def k0_off87 (i : grid0.Coords) : Fin 4 → Nat :=
  let arg0 : BitVec 32 := BitVec.ofNat 32 (i 0).val
  let c2_i32 : BitVec 32 := 2#32
  let v0 : BitVec 32 := Scalar.remsi arg0 c2_i32
  let v1119 : Index := Scalar.indexCast v0
  let c64_950 : Index := 64#32
  let c13_951 : Index := 13#32
  let c0_952 : Index := 0#32
  ![v1119.toNat, 64, 13, 0]
def k0_off88 (i : grid0.Coords) : Fin 4 → Nat :=
  let arg0 : BitVec 32 := BitVec.ofNat 32 (i 0).val
  let c2_i32 : BitVec 32 := 2#32
  let v0 : BitVec 32 := Scalar.remsi arg0 c2_i32
  let v1132 : Index := Scalar.indexCast v0
  let c64_962 : Index := 64#32
  let c14_963 : Index := 14#32
  let c0_964 : Index := 0#32
  ![v1132.toNat, 64, 14, 0]
def k0_off89 (i : grid0.Coords) : Fin 4 → Nat :=
  let arg0 : BitVec 32 := BitVec.ofNat 32 (i 0).val
  let c2_i32 : BitVec 32 := 2#32
  let v0 : BitVec 32 := Scalar.remsi arg0 c2_i32
  let v1145 : Index := Scalar.indexCast v0
  let c64_974 : Index := 64#32
  let c15_975 : Index := 15#32
  let c0_976 : Index := 0#32
  ![v1145.toNat, 64, 15, 0]
def k0_off90 (i : grid0.Coords) : Fin 4 → Nat :=
  let arg0 : BitVec 32 := BitVec.ofNat 32 (i 0).val
  let c2_i32 : BitVec 32 := 2#32
  let v0 : BitVec 32 := Scalar.remsi arg0 c2_i32
  let v1158 : Index := Scalar.indexCast v0
  let c64_986 : Index := 64#32
  let c16_987 : Index := 16#32
  let c0_988 : Index := 0#32
  ![v1158.toNat, 64, 16, 0]
def k0_off91 (i : grid0.Coords) : Fin 4 → Nat :=
  let arg0 : BitVec 32 := BitVec.ofNat 32 (i 0).val
  let c2_i32 : BitVec 32 := 2#32
  let v0 : BitVec 32 := Scalar.remsi arg0 c2_i32
  let v1171 : Index := Scalar.indexCast v0
  let c64_998 : Index := 64#32
  let c17_999 : Index := 17#32
  let c0_1000 : Index := 0#32
  ![v1171.toNat, 64, 17, 0]
def k0_off92 (i : grid0.Coords) : Fin 4 → Nat :=
  let arg0 : BitVec 32 := BitVec.ofNat 32 (i 0).val
  let c2_i32 : BitVec 32 := 2#32
  let v0 : BitVec 32 := Scalar.remsi arg0 c2_i32
  let v1184 : Index := Scalar.indexCast v0
  let c64_1010 : Index := 64#32
  let c18_1011 : Index := 18#32
  let c0_1012 : Index := 0#32
  ![v1184.toNat, 64, 18, 0]
def k0_off93 (i : grid0.Coords) : Fin 4 → Nat :=
  let arg0 : BitVec 32 := BitVec.ofNat 32 (i 0).val
  let c2_i32 : BitVec 32 := 2#32
  let v0 : BitVec 32 := Scalar.remsi arg0 c2_i32
  let v1197 : Index := Scalar.indexCast v0
  let c64_1022 : Index := 64#32
  let c19_1023 : Index := 19#32
  let c0_1024 : Index := 0#32
  ![v1197.toNat, 64, 19, 0]
def k0_off94 (i : grid0.Coords) : Fin 4 → Nat :=
  let arg0 : BitVec 32 := BitVec.ofNat 32 (i 0).val
  let c2_i32 : BitVec 32 := 2#32
  let v0 : BitVec 32 := Scalar.remsi arg0 c2_i32
  let v1210 : Index := Scalar.indexCast v0
  let c64_1034 : Index := 64#32
  let c20_1035 : Index := 20#32
  let c0_1036 : Index := 0#32
  ![v1210.toNat, 64, 20, 0]
def k0_off95 (i : grid0.Coords) : Fin 4 → Nat :=
  let arg0 : BitVec 32 := BitVec.ofNat 32 (i 0).val
  let c2_i32 : BitVec 32 := 2#32
  let v0 : BitVec 32 := Scalar.remsi arg0 c2_i32
  let v1223 : Index := Scalar.indexCast v0
  let c64_1046 : Index := 64#32
  let c21_1047 : Index := 21#32
  let c0_1048 : Index := 0#32
  ![v1223.toNat, 64, 21, 0]
def k0_off96 (i : grid0.Coords) : Fin 4 → Nat :=
  let arg0 : BitVec 32 := BitVec.ofNat 32 (i 0).val
  let c2_i32 : BitVec 32 := 2#32
  let v0 : BitVec 32 := Scalar.remsi arg0 c2_i32
  let v1236 : Index := Scalar.indexCast v0
  let c64_1058 : Index := 64#32
  let c22_1059 : Index := 22#32
  let c0_1060 : Index := 0#32
  ![v1236.toNat, 64, 22, 0]
def k0_off97 (i : grid0.Coords) : Fin 4 → Nat :=
  let arg0 : BitVec 32 := BitVec.ofNat 32 (i 0).val
  let c2_i32 : BitVec 32 := 2#32
  let v0 : BitVec 32 := Scalar.remsi arg0 c2_i32
  let v1249 : Index := Scalar.indexCast v0
  let c64_1070 : Index := 64#32
  let c23_1071 : Index := 23#32
  let c0_1072 : Index := 0#32
  ![v1249.toNat, 64, 23, 0]
def k0_off98 (i : grid0.Coords) : Fin 4 → Nat :=
  let arg0 : BitVec 32 := BitVec.ofNat 32 (i 0).val
  let c2_i32 : BitVec 32 := 2#32
  let v0 : BitVec 32 := Scalar.remsi arg0 c2_i32
  let v1262 : Index := Scalar.indexCast v0
  let c64_1082 : Index := 64#32
  let c24_1083 : Index := 24#32
  let c0_1084 : Index := 0#32
  ![v1262.toNat, 64, 24, 0]
def k0_off99 (i : grid0.Coords) : Fin 4 → Nat :=
  let arg0 : BitVec 32 := BitVec.ofNat 32 (i 0).val
  let c2_i32 : BitVec 32 := 2#32
  let v0 : BitVec 32 := Scalar.remsi arg0 c2_i32
  let v1275 : Index := Scalar.indexCast v0
  let c64_1094 : Index := 64#32
  let c25_1095 : Index := 25#32
  let c0_1096 : Index := 0#32
  ![v1275.toNat, 64, 25, 0]
def k0_off100 (i : grid0.Coords) : Fin 4 → Nat :=
  let arg0 : BitVec 32 := BitVec.ofNat 32 (i 0).val
  let c2_i32 : BitVec 32 := 2#32
  let v0 : BitVec 32 := Scalar.remsi arg0 c2_i32
  let v1288 : Index := Scalar.indexCast v0
  let c64_1106 : Index := 64#32
  let c26_1107 : Index := 26#32
  let c0_1108 : Index := 0#32
  ![v1288.toNat, 64, 26, 0]
def k0_off101 (i : grid0.Coords) : Fin 4 → Nat :=
  let arg0 : BitVec 32 := BitVec.ofNat 32 (i 0).val
  let c2_i32 : BitVec 32 := 2#32
  let v0 : BitVec 32 := Scalar.remsi arg0 c2_i32
  let v1301 : Index := Scalar.indexCast v0
  let c64_1118 : Index := 64#32
  let c27_1119 : Index := 27#32
  let c0_1120 : Index := 0#32
  ![v1301.toNat, 64, 27, 0]
def k0_off102 (i : grid0.Coords) : Fin 4 → Nat :=
  let arg0 : BitVec 32 := BitVec.ofNat 32 (i 0).val
  let c2_i32 : BitVec 32 := 2#32
  let v0 : BitVec 32 := Scalar.remsi arg0 c2_i32
  let v1314 : Index := Scalar.indexCast v0
  let c64_1130 : Index := 64#32
  let c28_1131 : Index := 28#32
  let c0_1132 : Index := 0#32
  ![v1314.toNat, 64, 28, 0]
def k0_off103 (i : grid0.Coords) : Fin 4 → Nat :=
  let arg0 : BitVec 32 := BitVec.ofNat 32 (i 0).val
  let c2_i32 : BitVec 32 := 2#32
  let v0 : BitVec 32 := Scalar.remsi arg0 c2_i32
  let v1327 : Index := Scalar.indexCast v0
  let c64_1142 : Index := 64#32
  let c29_1143 : Index := 29#32
  let c0_1144 : Index := 0#32
  ![v1327.toNat, 64, 29, 0]
def k0_off104 (i : grid0.Coords) : Fin 4 → Nat :=
  let arg0 : BitVec 32 := BitVec.ofNat 32 (i 0).val
  let c2_i32 : BitVec 32 := 2#32
  let v0 : BitVec 32 := Scalar.remsi arg0 c2_i32
  let v1340 : Index := Scalar.indexCast v0
  let c64_1154 : Index := 64#32
  let c30_1155 : Index := 30#32
  let c0_1156 : Index := 0#32
  ![v1340.toNat, 64, 30, 0]
def k0_off105 (i : grid0.Coords) : Fin 4 → Nat :=
  let arg0 : BitVec 32 := BitVec.ofNat 32 (i 0).val
  let c2_i32 : BitVec 32 := 2#32
  let v0 : BitVec 32 := Scalar.remsi arg0 c2_i32
  let v1353 : Index := Scalar.indexCast v0
  let c64_1166 : Index := 64#32
  let c31_1167 : Index := 31#32
  let c0_1168 : Index := 0#32
  ![v1353.toNat, 64, 31, 0]
def k0_off106 (i : grid0.Coords) : Fin 4 → Nat :=
  let arg0 : BitVec 32 := BitVec.ofNat 32 (i 0).val
  let c64_i32 : BitVec 32 := 64#32
  let c0_i32_1177 : BitVec 32 := 0#32
  let c0_i32_1178 : BitVec 32 := 0#32
  ![arg0.toNat, 64, 0, 0]
def k0_cond5 (i : grid0.Coords) : BitVec 1 :=
  let arg0 : BitVec 32 := BitVec.ofNat 32 (i 0).val
  let c0_i32_1182 : BitVec 32 := 0#32
  let v1369 : BitVec 1 := Scalar.cmpi .sgt arg0 c0_i32_1182
  let v1370 : BitVec 32 := Scalar.extui v1369
  let c0_i32_1183 : BitVec 32 := 0#32
  let v1371 : BitVec 1 := Scalar.cmpi .ne v1370 c0_i32_1183
  v1371

def k0_off107 (i : grid0.Coords) : Fin 4 → Nat :=
  let arg0 : BitVec 32 := BitVec.ofNat 32 (i 0).val
  let c128_i32_1968 : BitVec 32 := 128#32
  let c0_i32_1969 : BitVec 32 := 0#32
  let c0_i32_1970 : BitVec 32 := 0#32
  ![arg0.toNat, 128, 0, 0]
def k0_off108 (i : grid0.Coords) : Fin 4 → Nat :=
  let arg0 : BitVec 32 := BitVec.ofNat 32 (i 0).val
  let c2_i32 : BitVec 32 := 2#32
  let v0 : BitVec 32 := Scalar.remsi arg0 c2_i32
  let v1375 : Index := Scalar.indexCast v0
  let c128 : Index := 128#32
  let c0_1187 : Index := 0#32
  let c0_1188 : Index := 0#32
  ![v1375.toNat, 128, 0, 0]
def k0_off109 (i : grid0.Coords) : Fin 4 → Nat :=
  let arg0 : BitVec 32 := BitVec.ofNat 32 (i 0).val
  let c2_i32 : BitVec 32 := 2#32
  let v0 : BitVec 32 := Scalar.remsi arg0 c2_i32
  let v1388 : Index := Scalar.indexCast v0
  let c128_1198 : Index := 128#32
  let c1_1199 : Index := 1#32
  let c0_1200 : Index := 0#32
  ![v1388.toNat, 128, 1, 0]
def k0_off110 (i : grid0.Coords) : Fin 4 → Nat :=
  let arg0 : BitVec 32 := BitVec.ofNat 32 (i 0).val
  let c2_i32 : BitVec 32 := 2#32
  let v0 : BitVec 32 := Scalar.remsi arg0 c2_i32
  let v1401 : Index := Scalar.indexCast v0
  let c128_1210 : Index := 128#32
  let c2_1211 : Index := 2#32
  let c0_1212 : Index := 0#32
  ![v1401.toNat, 128, 2, 0]
def k0_off111 (i : grid0.Coords) : Fin 4 → Nat :=
  let arg0 : BitVec 32 := BitVec.ofNat 32 (i 0).val
  let c2_i32 : BitVec 32 := 2#32
  let v0 : BitVec 32 := Scalar.remsi arg0 c2_i32
  let v1414 : Index := Scalar.indexCast v0
  let c128_1222 : Index := 128#32
  let c3_1223 : Index := 3#32
  let c0_1224 : Index := 0#32
  ![v1414.toNat, 128, 3, 0]
def k0_off112 (i : grid0.Coords) : Fin 4 → Nat :=
  let arg0 : BitVec 32 := BitVec.ofNat 32 (i 0).val
  let c2_i32 : BitVec 32 := 2#32
  let v0 : BitVec 32 := Scalar.remsi arg0 c2_i32
  let v1427 : Index := Scalar.indexCast v0
  let c128_1234 : Index := 128#32
  let c4_1235 : Index := 4#32
  let c0_1236 : Index := 0#32
  ![v1427.toNat, 128, 4, 0]
def k0_off113 (i : grid0.Coords) : Fin 4 → Nat :=
  let arg0 : BitVec 32 := BitVec.ofNat 32 (i 0).val
  let c2_i32 : BitVec 32 := 2#32
  let v0 : BitVec 32 := Scalar.remsi arg0 c2_i32
  let v1440 : Index := Scalar.indexCast v0
  let c128_1246 : Index := 128#32
  let c5_1247 : Index := 5#32
  let c0_1248 : Index := 0#32
  ![v1440.toNat, 128, 5, 0]
def k0_off114 (i : grid0.Coords) : Fin 4 → Nat :=
  let arg0 : BitVec 32 := BitVec.ofNat 32 (i 0).val
  let c2_i32 : BitVec 32 := 2#32
  let v0 : BitVec 32 := Scalar.remsi arg0 c2_i32
  let v1453 : Index := Scalar.indexCast v0
  let c128_1258 : Index := 128#32
  let c6_1259 : Index := 6#32
  let c0_1260 : Index := 0#32
  ![v1453.toNat, 128, 6, 0]
def k0_off115 (i : grid0.Coords) : Fin 4 → Nat :=
  let arg0 : BitVec 32 := BitVec.ofNat 32 (i 0).val
  let c2_i32 : BitVec 32 := 2#32
  let v0 : BitVec 32 := Scalar.remsi arg0 c2_i32
  let v1466 : Index := Scalar.indexCast v0
  let c128_1270 : Index := 128#32
  let c7_1271 : Index := 7#32
  let c0_1272 : Index := 0#32
  ![v1466.toNat, 128, 7, 0]
def k0_off116 (i : grid0.Coords) : Fin 4 → Nat :=
  let arg0 : BitVec 32 := BitVec.ofNat 32 (i 0).val
  let c2_i32 : BitVec 32 := 2#32
  let v0 : BitVec 32 := Scalar.remsi arg0 c2_i32
  let v1479 : Index := Scalar.indexCast v0
  let c128_1282 : Index := 128#32
  let c8_1283 : Index := 8#32
  let c0_1284 : Index := 0#32
  ![v1479.toNat, 128, 8, 0]
def k0_off117 (i : grid0.Coords) : Fin 4 → Nat :=
  let arg0 : BitVec 32 := BitVec.ofNat 32 (i 0).val
  let c2_i32 : BitVec 32 := 2#32
  let v0 : BitVec 32 := Scalar.remsi arg0 c2_i32
  let v1492 : Index := Scalar.indexCast v0
  let c128_1294 : Index := 128#32
  let c9_1295 : Index := 9#32
  let c0_1296 : Index := 0#32
  ![v1492.toNat, 128, 9, 0]
def k0_off118 (i : grid0.Coords) : Fin 4 → Nat :=
  let arg0 : BitVec 32 := BitVec.ofNat 32 (i 0).val
  let c2_i32 : BitVec 32 := 2#32
  let v0 : BitVec 32 := Scalar.remsi arg0 c2_i32
  let v1505 : Index := Scalar.indexCast v0
  let c128_1306 : Index := 128#32
  let c10_1307 : Index := 10#32
  let c0_1308 : Index := 0#32
  ![v1505.toNat, 128, 10, 0]
def k0_off119 (i : grid0.Coords) : Fin 4 → Nat :=
  let arg0 : BitVec 32 := BitVec.ofNat 32 (i 0).val
  let c2_i32 : BitVec 32 := 2#32
  let v0 : BitVec 32 := Scalar.remsi arg0 c2_i32
  let v1518 : Index := Scalar.indexCast v0
  let c128_1318 : Index := 128#32
  let c11_1319 : Index := 11#32
  let c0_1320 : Index := 0#32
  ![v1518.toNat, 128, 11, 0]
def k0_off120 (i : grid0.Coords) : Fin 4 → Nat :=
  let arg0 : BitVec 32 := BitVec.ofNat 32 (i 0).val
  let c2_i32 : BitVec 32 := 2#32
  let v0 : BitVec 32 := Scalar.remsi arg0 c2_i32
  let v1531 : Index := Scalar.indexCast v0
  let c128_1330 : Index := 128#32
  let c12_1331 : Index := 12#32
  let c0_1332 : Index := 0#32
  ![v1531.toNat, 128, 12, 0]
def k0_off121 (i : grid0.Coords) : Fin 4 → Nat :=
  let arg0 : BitVec 32 := BitVec.ofNat 32 (i 0).val
  let c2_i32 : BitVec 32 := 2#32
  let v0 : BitVec 32 := Scalar.remsi arg0 c2_i32
  let v1544 : Index := Scalar.indexCast v0
  let c128_1342 : Index := 128#32
  let c13_1343 : Index := 13#32
  let c0_1344 : Index := 0#32
  ![v1544.toNat, 128, 13, 0]
def k0_off122 (i : grid0.Coords) : Fin 4 → Nat :=
  let arg0 : BitVec 32 := BitVec.ofNat 32 (i 0).val
  let c2_i32 : BitVec 32 := 2#32
  let v0 : BitVec 32 := Scalar.remsi arg0 c2_i32
  let v1557 : Index := Scalar.indexCast v0
  let c128_1354 : Index := 128#32
  let c14_1355 : Index := 14#32
  let c0_1356 : Index := 0#32
  ![v1557.toNat, 128, 14, 0]
def k0_off123 (i : grid0.Coords) : Fin 4 → Nat :=
  let arg0 : BitVec 32 := BitVec.ofNat 32 (i 0).val
  let c2_i32 : BitVec 32 := 2#32
  let v0 : BitVec 32 := Scalar.remsi arg0 c2_i32
  let v1570 : Index := Scalar.indexCast v0
  let c128_1366 : Index := 128#32
  let c15_1367 : Index := 15#32
  let c0_1368 : Index := 0#32
  ![v1570.toNat, 128, 15, 0]
def k0_off124 (i : grid0.Coords) : Fin 4 → Nat :=
  let arg0 : BitVec 32 := BitVec.ofNat 32 (i 0).val
  let c2_i32 : BitVec 32 := 2#32
  let v0 : BitVec 32 := Scalar.remsi arg0 c2_i32
  let v1583 : Index := Scalar.indexCast v0
  let c128_1378 : Index := 128#32
  let c16_1379 : Index := 16#32
  let c0_1380 : Index := 0#32
  ![v1583.toNat, 128, 16, 0]
def k0_off125 (i : grid0.Coords) : Fin 4 → Nat :=
  let arg0 : BitVec 32 := BitVec.ofNat 32 (i 0).val
  let c2_i32 : BitVec 32 := 2#32
  let v0 : BitVec 32 := Scalar.remsi arg0 c2_i32
  let v1596 : Index := Scalar.indexCast v0
  let c128_1390 : Index := 128#32
  let c17_1391 : Index := 17#32
  let c0_1392 : Index := 0#32
  ![v1596.toNat, 128, 17, 0]
def k0_off126 (i : grid0.Coords) : Fin 4 → Nat :=
  let arg0 : BitVec 32 := BitVec.ofNat 32 (i 0).val
  let c2_i32 : BitVec 32 := 2#32
  let v0 : BitVec 32 := Scalar.remsi arg0 c2_i32
  let v1609 : Index := Scalar.indexCast v0
  let c128_1402 : Index := 128#32
  let c18_1403 : Index := 18#32
  let c0_1404 : Index := 0#32
  ![v1609.toNat, 128, 18, 0]
def k0_off127 (i : grid0.Coords) : Fin 4 → Nat :=
  let arg0 : BitVec 32 := BitVec.ofNat 32 (i 0).val
  let c2_i32 : BitVec 32 := 2#32
  let v0 : BitVec 32 := Scalar.remsi arg0 c2_i32
  let v1622 : Index := Scalar.indexCast v0
  let c128_1414 : Index := 128#32
  let c19_1415 : Index := 19#32
  let c0_1416 : Index := 0#32
  ![v1622.toNat, 128, 19, 0]
def k0_off128 (i : grid0.Coords) : Fin 4 → Nat :=
  let arg0 : BitVec 32 := BitVec.ofNat 32 (i 0).val
  let c2_i32 : BitVec 32 := 2#32
  let v0 : BitVec 32 := Scalar.remsi arg0 c2_i32
  let v1635 : Index := Scalar.indexCast v0
  let c128_1426 : Index := 128#32
  let c20_1427 : Index := 20#32
  let c0_1428 : Index := 0#32
  ![v1635.toNat, 128, 20, 0]
def k0_off129 (i : grid0.Coords) : Fin 4 → Nat :=
  let arg0 : BitVec 32 := BitVec.ofNat 32 (i 0).val
  let c2_i32 : BitVec 32 := 2#32
  let v0 : BitVec 32 := Scalar.remsi arg0 c2_i32
  let v1648 : Index := Scalar.indexCast v0
  let c128_1438 : Index := 128#32
  let c21_1439 : Index := 21#32
  let c0_1440 : Index := 0#32
  ![v1648.toNat, 128, 21, 0]
def k0_off130 (i : grid0.Coords) : Fin 4 → Nat :=
  let arg0 : BitVec 32 := BitVec.ofNat 32 (i 0).val
  let c2_i32 : BitVec 32 := 2#32
  let v0 : BitVec 32 := Scalar.remsi arg0 c2_i32
  let v1661 : Index := Scalar.indexCast v0
  let c128_1450 : Index := 128#32
  let c22_1451 : Index := 22#32
  let c0_1452 : Index := 0#32
  ![v1661.toNat, 128, 22, 0]
def k0_off131 (i : grid0.Coords) : Fin 4 → Nat :=
  let arg0 : BitVec 32 := BitVec.ofNat 32 (i 0).val
  let c2_i32 : BitVec 32 := 2#32
  let v0 : BitVec 32 := Scalar.remsi arg0 c2_i32
  let v1674 : Index := Scalar.indexCast v0
  let c128_1462 : Index := 128#32
  let c23_1463 : Index := 23#32
  let c0_1464 : Index := 0#32
  ![v1674.toNat, 128, 23, 0]
def k0_off132 (i : grid0.Coords) : Fin 4 → Nat :=
  let arg0 : BitVec 32 := BitVec.ofNat 32 (i 0).val
  let c2_i32 : BitVec 32 := 2#32
  let v0 : BitVec 32 := Scalar.remsi arg0 c2_i32
  let v1687 : Index := Scalar.indexCast v0
  let c128_1474 : Index := 128#32
  let c24_1475 : Index := 24#32
  let c0_1476 : Index := 0#32
  ![v1687.toNat, 128, 24, 0]
def k0_off133 (i : grid0.Coords) : Fin 4 → Nat :=
  let arg0 : BitVec 32 := BitVec.ofNat 32 (i 0).val
  let c2_i32 : BitVec 32 := 2#32
  let v0 : BitVec 32 := Scalar.remsi arg0 c2_i32
  let v1700 : Index := Scalar.indexCast v0
  let c128_1486 : Index := 128#32
  let c25_1487 : Index := 25#32
  let c0_1488 : Index := 0#32
  ![v1700.toNat, 128, 25, 0]
def k0_off134 (i : grid0.Coords) : Fin 4 → Nat :=
  let arg0 : BitVec 32 := BitVec.ofNat 32 (i 0).val
  let c2_i32 : BitVec 32 := 2#32
  let v0 : BitVec 32 := Scalar.remsi arg0 c2_i32
  let v1713 : Index := Scalar.indexCast v0
  let c128_1498 : Index := 128#32
  let c26_1499 : Index := 26#32
  let c0_1500 : Index := 0#32
  ![v1713.toNat, 128, 26, 0]
def k0_off135 (i : grid0.Coords) : Fin 4 → Nat :=
  let arg0 : BitVec 32 := BitVec.ofNat 32 (i 0).val
  let c2_i32 : BitVec 32 := 2#32
  let v0 : BitVec 32 := Scalar.remsi arg0 c2_i32
  let v1726 : Index := Scalar.indexCast v0
  let c128_1510 : Index := 128#32
  let c27_1511 : Index := 27#32
  let c0_1512 : Index := 0#32
  ![v1726.toNat, 128, 27, 0]
def k0_off136 (i : grid0.Coords) : Fin 4 → Nat :=
  let arg0 : BitVec 32 := BitVec.ofNat 32 (i 0).val
  let c2_i32 : BitVec 32 := 2#32
  let v0 : BitVec 32 := Scalar.remsi arg0 c2_i32
  let v1739 : Index := Scalar.indexCast v0
  let c128_1522 : Index := 128#32
  let c28_1523 : Index := 28#32
  let c0_1524 : Index := 0#32
  ![v1739.toNat, 128, 28, 0]
def k0_off137 (i : grid0.Coords) : Fin 4 → Nat :=
  let arg0 : BitVec 32 := BitVec.ofNat 32 (i 0).val
  let c2_i32 : BitVec 32 := 2#32
  let v0 : BitVec 32 := Scalar.remsi arg0 c2_i32
  let v1752 : Index := Scalar.indexCast v0
  let c128_1534 : Index := 128#32
  let c29_1535 : Index := 29#32
  let c0_1536 : Index := 0#32
  ![v1752.toNat, 128, 29, 0]
def k0_off138 (i : grid0.Coords) : Fin 4 → Nat :=
  let arg0 : BitVec 32 := BitVec.ofNat 32 (i 0).val
  let c2_i32 : BitVec 32 := 2#32
  let v0 : BitVec 32 := Scalar.remsi arg0 c2_i32
  let v1765 : Index := Scalar.indexCast v0
  let c128_1546 : Index := 128#32
  let c30_1547 : Index := 30#32
  let c0_1548 : Index := 0#32
  ![v1765.toNat, 128, 30, 0]
def k0_off139 (i : grid0.Coords) : Fin 4 → Nat :=
  let arg0 : BitVec 32 := BitVec.ofNat 32 (i 0).val
  let c2_i32 : BitVec 32 := 2#32
  let v0 : BitVec 32 := Scalar.remsi arg0 c2_i32
  let v1778 : Index := Scalar.indexCast v0
  let c128_1558 : Index := 128#32
  let c31_1559 : Index := 31#32
  let c0_1560 : Index := 0#32
  ![v1778.toNat, 128, 31, 0]
def k0_off140 (i : grid0.Coords) : Fin 4 → Nat :=
  let arg0 : BitVec 32 := BitVec.ofNat 32 (i 0).val
  let c128_i32 : BitVec 32 := 128#32
  let c0_i32_1569 : BitVec 32 := 0#32
  let c0_i32_1570 : BitVec 32 := 0#32
  ![arg0.toNat, 128, 0, 0]
def k0_cond6 (i : grid0.Coords) : BitVec 1 :=
  let arg0 : BitVec 32 := BitVec.ofNat 32 (i 0).val
  let c0_i32_1574 : BitVec 32 := 0#32
  let v1794 : BitVec 1 := Scalar.cmpi .sgt arg0 c0_i32_1574
  let v1795 : BitVec 32 := Scalar.extui v1794
  let c0_i32_1575 : BitVec 32 := 0#32
  let v1796 : BitVec 1 := Scalar.cmpi .ne v1795 c0_i32_1575
  v1796

def k0_off141 (i : grid0.Coords) : Fin 4 → Nat :=
  let arg0 : BitVec 32 := BitVec.ofNat 32 (i 0).val
  let c192_i32_1968 : BitVec 32 := 192#32
  let c0_i32_1969 : BitVec 32 := 0#32
  let c0_i32_1970 : BitVec 32 := 0#32
  ![arg0.toNat, 192, 0, 0]
def k0_off142 (i : grid0.Coords) : Fin 4 → Nat :=
  let arg0 : BitVec 32 := BitVec.ofNat 32 (i 0).val
  let c2_i32 : BitVec 32 := 2#32
  let v0 : BitVec 32 := Scalar.remsi arg0 c2_i32
  let v1800 : Index := Scalar.indexCast v0
  let c192 : Index := 192#32
  let c0_1579 : Index := 0#32
  let c0_1580 : Index := 0#32
  ![v1800.toNat, 192, 0, 0]
def k0_off143 (i : grid0.Coords) : Fin 4 → Nat :=
  let arg0 : BitVec 32 := BitVec.ofNat 32 (i 0).val
  let c2_i32 : BitVec 32 := 2#32
  let v0 : BitVec 32 := Scalar.remsi arg0 c2_i32
  let v1813 : Index := Scalar.indexCast v0
  let c192_1590 : Index := 192#32
  let c1_1591 : Index := 1#32
  let c0_1592 : Index := 0#32
  ![v1813.toNat, 192, 1, 0]
def k0_off144 (i : grid0.Coords) : Fin 4 → Nat :=
  let arg0 : BitVec 32 := BitVec.ofNat 32 (i 0).val
  let c2_i32 : BitVec 32 := 2#32
  let v0 : BitVec 32 := Scalar.remsi arg0 c2_i32
  let v1826 : Index := Scalar.indexCast v0
  let c192_1602 : Index := 192#32
  let c2_1603 : Index := 2#32
  let c0_1604 : Index := 0#32
  ![v1826.toNat, 192, 2, 0]
def k0_off145 (i : grid0.Coords) : Fin 4 → Nat :=
  let arg0 : BitVec 32 := BitVec.ofNat 32 (i 0).val
  let c2_i32 : BitVec 32 := 2#32
  let v0 : BitVec 32 := Scalar.remsi arg0 c2_i32
  let v1839 : Index := Scalar.indexCast v0
  let c192_1614 : Index := 192#32
  let c3_1615 : Index := 3#32
  let c0_1616 : Index := 0#32
  ![v1839.toNat, 192, 3, 0]
def k0_off146 (i : grid0.Coords) : Fin 4 → Nat :=
  let arg0 : BitVec 32 := BitVec.ofNat 32 (i 0).val
  let c2_i32 : BitVec 32 := 2#32
  let v0 : BitVec 32 := Scalar.remsi arg0 c2_i32
  let v1852 : Index := Scalar.indexCast v0
  let c192_1626 : Index := 192#32
  let c4_1627 : Index := 4#32
  let c0_1628 : Index := 0#32
  ![v1852.toNat, 192, 4, 0]
def k0_off147 (i : grid0.Coords) : Fin 4 → Nat :=
  let arg0 : BitVec 32 := BitVec.ofNat 32 (i 0).val
  let c2_i32 : BitVec 32 := 2#32
  let v0 : BitVec 32 := Scalar.remsi arg0 c2_i32
  let v1865 : Index := Scalar.indexCast v0
  let c192_1638 : Index := 192#32
  let c5_1639 : Index := 5#32
  let c0_1640 : Index := 0#32
  ![v1865.toNat, 192, 5, 0]
def k0_off148 (i : grid0.Coords) : Fin 4 → Nat :=
  let arg0 : BitVec 32 := BitVec.ofNat 32 (i 0).val
  let c2_i32 : BitVec 32 := 2#32
  let v0 : BitVec 32 := Scalar.remsi arg0 c2_i32
  let v1878 : Index := Scalar.indexCast v0
  let c192_1650 : Index := 192#32
  let c6_1651 : Index := 6#32
  let c0_1652 : Index := 0#32
  ![v1878.toNat, 192, 6, 0]
def k0_off149 (i : grid0.Coords) : Fin 4 → Nat :=
  let arg0 : BitVec 32 := BitVec.ofNat 32 (i 0).val
  let c2_i32 : BitVec 32 := 2#32
  let v0 : BitVec 32 := Scalar.remsi arg0 c2_i32
  let v1891 : Index := Scalar.indexCast v0
  let c192_1662 : Index := 192#32
  let c7_1663 : Index := 7#32
  let c0_1664 : Index := 0#32
  ![v1891.toNat, 192, 7, 0]
def k0_off150 (i : grid0.Coords) : Fin 4 → Nat :=
  let arg0 : BitVec 32 := BitVec.ofNat 32 (i 0).val
  let c2_i32 : BitVec 32 := 2#32
  let v0 : BitVec 32 := Scalar.remsi arg0 c2_i32
  let v1904 : Index := Scalar.indexCast v0
  let c192_1674 : Index := 192#32
  let c8_1675 : Index := 8#32
  let c0_1676 : Index := 0#32
  ![v1904.toNat, 192, 8, 0]
def k0_off151 (i : grid0.Coords) : Fin 4 → Nat :=
  let arg0 : BitVec 32 := BitVec.ofNat 32 (i 0).val
  let c2_i32 : BitVec 32 := 2#32
  let v0 : BitVec 32 := Scalar.remsi arg0 c2_i32
  let v1917 : Index := Scalar.indexCast v0
  let c192_1686 : Index := 192#32
  let c9_1687 : Index := 9#32
  let c0_1688 : Index := 0#32
  ![v1917.toNat, 192, 9, 0]
def k0_off152 (i : grid0.Coords) : Fin 4 → Nat :=
  let arg0 : BitVec 32 := BitVec.ofNat 32 (i 0).val
  let c2_i32 : BitVec 32 := 2#32
  let v0 : BitVec 32 := Scalar.remsi arg0 c2_i32
  let v1930 : Index := Scalar.indexCast v0
  let c192_1698 : Index := 192#32
  let c10_1699 : Index := 10#32
  let c0_1700 : Index := 0#32
  ![v1930.toNat, 192, 10, 0]
def k0_off153 (i : grid0.Coords) : Fin 4 → Nat :=
  let arg0 : BitVec 32 := BitVec.ofNat 32 (i 0).val
  let c2_i32 : BitVec 32 := 2#32
  let v0 : BitVec 32 := Scalar.remsi arg0 c2_i32
  let v1943 : Index := Scalar.indexCast v0
  let c192_1710 : Index := 192#32
  let c11_1711 : Index := 11#32
  let c0_1712 : Index := 0#32
  ![v1943.toNat, 192, 11, 0]
def k0_off154 (i : grid0.Coords) : Fin 4 → Nat :=
  let arg0 : BitVec 32 := BitVec.ofNat 32 (i 0).val
  let c2_i32 : BitVec 32 := 2#32
  let v0 : BitVec 32 := Scalar.remsi arg0 c2_i32
  let v1956 : Index := Scalar.indexCast v0
  let c192_1722 : Index := 192#32
  let c12_1723 : Index := 12#32
  let c0_1724 : Index := 0#32
  ![v1956.toNat, 192, 12, 0]
def k0_off155 (i : grid0.Coords) : Fin 4 → Nat :=
  let arg0 : BitVec 32 := BitVec.ofNat 32 (i 0).val
  let c2_i32 : BitVec 32 := 2#32
  let v0 : BitVec 32 := Scalar.remsi arg0 c2_i32
  let v1969 : Index := Scalar.indexCast v0
  let c192_1734 : Index := 192#32
  let c13_1735 : Index := 13#32
  let c0_1736 : Index := 0#32
  ![v1969.toNat, 192, 13, 0]
def k0_off156 (i : grid0.Coords) : Fin 4 → Nat :=
  let arg0 : BitVec 32 := BitVec.ofNat 32 (i 0).val
  let c2_i32 : BitVec 32 := 2#32
  let v0 : BitVec 32 := Scalar.remsi arg0 c2_i32
  let v1982 : Index := Scalar.indexCast v0
  let c192_1746 : Index := 192#32
  let c14_1747 : Index := 14#32
  let c0_1748 : Index := 0#32
  ![v1982.toNat, 192, 14, 0]
def k0_off157 (i : grid0.Coords) : Fin 4 → Nat :=
  let arg0 : BitVec 32 := BitVec.ofNat 32 (i 0).val
  let c2_i32 : BitVec 32 := 2#32
  let v0 : BitVec 32 := Scalar.remsi arg0 c2_i32
  let v1995 : Index := Scalar.indexCast v0
  let c192_1758 : Index := 192#32
  let c15_1759 : Index := 15#32
  let c0_1760 : Index := 0#32
  ![v1995.toNat, 192, 15, 0]
def k0_off158 (i : grid0.Coords) : Fin 4 → Nat :=
  let arg0 : BitVec 32 := BitVec.ofNat 32 (i 0).val
  let c2_i32 : BitVec 32 := 2#32
  let v0 : BitVec 32 := Scalar.remsi arg0 c2_i32
  let v2008 : Index := Scalar.indexCast v0
  let c192_1770 : Index := 192#32
  let c16_1771 : Index := 16#32
  let c0_1772 : Index := 0#32
  ![v2008.toNat, 192, 16, 0]
def k0_off159 (i : grid0.Coords) : Fin 4 → Nat :=
  let arg0 : BitVec 32 := BitVec.ofNat 32 (i 0).val
  let c2_i32 : BitVec 32 := 2#32
  let v0 : BitVec 32 := Scalar.remsi arg0 c2_i32
  let v2021 : Index := Scalar.indexCast v0
  let c192_1782 : Index := 192#32
  let c17_1783 : Index := 17#32
  let c0_1784 : Index := 0#32
  ![v2021.toNat, 192, 17, 0]
def k0_off160 (i : grid0.Coords) : Fin 4 → Nat :=
  let arg0 : BitVec 32 := BitVec.ofNat 32 (i 0).val
  let c2_i32 : BitVec 32 := 2#32
  let v0 : BitVec 32 := Scalar.remsi arg0 c2_i32
  let v2034 : Index := Scalar.indexCast v0
  let c192_1794 : Index := 192#32
  let c18_1795 : Index := 18#32
  let c0_1796 : Index := 0#32
  ![v2034.toNat, 192, 18, 0]
def k0_off161 (i : grid0.Coords) : Fin 4 → Nat :=
  let arg0 : BitVec 32 := BitVec.ofNat 32 (i 0).val
  let c2_i32 : BitVec 32 := 2#32
  let v0 : BitVec 32 := Scalar.remsi arg0 c2_i32
  let v2047 : Index := Scalar.indexCast v0
  let c192_1806 : Index := 192#32
  let c19_1807 : Index := 19#32
  let c0_1808 : Index := 0#32
  ![v2047.toNat, 192, 19, 0]
def k0_off162 (i : grid0.Coords) : Fin 4 → Nat :=
  let arg0 : BitVec 32 := BitVec.ofNat 32 (i 0).val
  let c2_i32 : BitVec 32 := 2#32
  let v0 : BitVec 32 := Scalar.remsi arg0 c2_i32
  let v2060 : Index := Scalar.indexCast v0
  let c192_1818 : Index := 192#32
  let c20_1819 : Index := 20#32
  let c0_1820 : Index := 0#32
  ![v2060.toNat, 192, 20, 0]
def k0_off163 (i : grid0.Coords) : Fin 4 → Nat :=
  let arg0 : BitVec 32 := BitVec.ofNat 32 (i 0).val
  let c2_i32 : BitVec 32 := 2#32
  let v0 : BitVec 32 := Scalar.remsi arg0 c2_i32
  let v2073 : Index := Scalar.indexCast v0
  let c192_1830 : Index := 192#32
  let c21_1831 : Index := 21#32
  let c0_1832 : Index := 0#32
  ![v2073.toNat, 192, 21, 0]
def k0_off164 (i : grid0.Coords) : Fin 4 → Nat :=
  let arg0 : BitVec 32 := BitVec.ofNat 32 (i 0).val
  let c2_i32 : BitVec 32 := 2#32
  let v0 : BitVec 32 := Scalar.remsi arg0 c2_i32
  let v2086 : Index := Scalar.indexCast v0
  let c192_1842 : Index := 192#32
  let c22_1843 : Index := 22#32
  let c0_1844 : Index := 0#32
  ![v2086.toNat, 192, 22, 0]
def k0_off165 (i : grid0.Coords) : Fin 4 → Nat :=
  let arg0 : BitVec 32 := BitVec.ofNat 32 (i 0).val
  let c2_i32 : BitVec 32 := 2#32
  let v0 : BitVec 32 := Scalar.remsi arg0 c2_i32
  let v2099 : Index := Scalar.indexCast v0
  let c192_1854 : Index := 192#32
  let c23_1855 : Index := 23#32
  let c0_1856 : Index := 0#32
  ![v2099.toNat, 192, 23, 0]
def k0_off166 (i : grid0.Coords) : Fin 4 → Nat :=
  let arg0 : BitVec 32 := BitVec.ofNat 32 (i 0).val
  let c2_i32 : BitVec 32 := 2#32
  let v0 : BitVec 32 := Scalar.remsi arg0 c2_i32
  let v2112 : Index := Scalar.indexCast v0
  let c192_1866 : Index := 192#32
  let c24_1867 : Index := 24#32
  let c0_1868 : Index := 0#32
  ![v2112.toNat, 192, 24, 0]
def k0_off167 (i : grid0.Coords) : Fin 4 → Nat :=
  let arg0 : BitVec 32 := BitVec.ofNat 32 (i 0).val
  let c2_i32 : BitVec 32 := 2#32
  let v0 : BitVec 32 := Scalar.remsi arg0 c2_i32
  let v2125 : Index := Scalar.indexCast v0
  let c192_1878 : Index := 192#32
  let c25_1879 : Index := 25#32
  let c0_1880 : Index := 0#32
  ![v2125.toNat, 192, 25, 0]
def k0_off168 (i : grid0.Coords) : Fin 4 → Nat :=
  let arg0 : BitVec 32 := BitVec.ofNat 32 (i 0).val
  let c2_i32 : BitVec 32 := 2#32
  let v0 : BitVec 32 := Scalar.remsi arg0 c2_i32
  let v2138 : Index := Scalar.indexCast v0
  let c192_1890 : Index := 192#32
  let c26_1891 : Index := 26#32
  let c0_1892 : Index := 0#32
  ![v2138.toNat, 192, 26, 0]
def k0_off169 (i : grid0.Coords) : Fin 4 → Nat :=
  let arg0 : BitVec 32 := BitVec.ofNat 32 (i 0).val
  let c2_i32 : BitVec 32 := 2#32
  let v0 : BitVec 32 := Scalar.remsi arg0 c2_i32
  let v2151 : Index := Scalar.indexCast v0
  let c192_1902 : Index := 192#32
  let c27_1903 : Index := 27#32
  let c0_1904 : Index := 0#32
  ![v2151.toNat, 192, 27, 0]
def k0_off170 (i : grid0.Coords) : Fin 4 → Nat :=
  let arg0 : BitVec 32 := BitVec.ofNat 32 (i 0).val
  let c2_i32 : BitVec 32 := 2#32
  let v0 : BitVec 32 := Scalar.remsi arg0 c2_i32
  let v2164 : Index := Scalar.indexCast v0
  let c192_1914 : Index := 192#32
  let c28_1915 : Index := 28#32
  let c0_1916 : Index := 0#32
  ![v2164.toNat, 192, 28, 0]
def k0_off171 (i : grid0.Coords) : Fin 4 → Nat :=
  let arg0 : BitVec 32 := BitVec.ofNat 32 (i 0).val
  let c2_i32 : BitVec 32 := 2#32
  let v0 : BitVec 32 := Scalar.remsi arg0 c2_i32
  let v2177 : Index := Scalar.indexCast v0
  let c192_1926 : Index := 192#32
  let c29_1927 : Index := 29#32
  let c0_1928 : Index := 0#32
  ![v2177.toNat, 192, 29, 0]
def k0_off172 (i : grid0.Coords) : Fin 4 → Nat :=
  let arg0 : BitVec 32 := BitVec.ofNat 32 (i 0).val
  let c2_i32 : BitVec 32 := 2#32
  let v0 : BitVec 32 := Scalar.remsi arg0 c2_i32
  let v2190 : Index := Scalar.indexCast v0
  let c192_1938 : Index := 192#32
  let c30_1939 : Index := 30#32
  let c0_1940 : Index := 0#32
  ![v2190.toNat, 192, 30, 0]
def k0_off173 (i : grid0.Coords) : Fin 4 → Nat :=
  let arg0 : BitVec 32 := BitVec.ofNat 32 (i 0).val
  let c2_i32 : BitVec 32 := 2#32
  let v0 : BitVec 32 := Scalar.remsi arg0 c2_i32
  let v2203 : Index := Scalar.indexCast v0
  let c192_1950 : Index := 192#32
  let c31_1951 : Index := 31#32
  let c0_1952 : Index := 0#32
  ![v2203.toNat, 192, 31, 0]
def k0_off174 (i : grid0.Coords) : Fin 4 → Nat :=
  let arg0 : BitVec 32 := BitVec.ofNat 32 (i 0).val
  let c192_i32 : BitVec 32 := 192#32
  let c0_i32_1960 : BitVec 32 := 0#32
  let c0_i32_1961 : BitVec 32 := 0#32
  ![arg0.toNat, 192, 0, 0]
def k0_cond7 (i : grid0.Coords) : BitVec 1 :=
  let arg0 : BitVec 32 := BitVec.ofNat 32 (i 0).val
  let c7_i32 : BitVec 32 := 7#32
  let v2219 : BitVec 1 := Scalar.cmpi .eq arg0 c7_i32
  let v2220 : BitVec 32 := Scalar.extui v2219
  let c0_i32_1965 : BitVec 32 := 0#32
  let v2221 : BitVec 1 := Scalar.cmpi .ne v2220 c0_i32_1965
  v2221

def k0_off175 (i : grid0.Coords) : Fin 4 → Nat :=
  let arg0 : BitVec 32 := BitVec.ofNat 32 (i 0).val
  let c0_i32_1968 : BitVec 32 := 0#32
  let c0_i32_1969 : BitVec 32 := 0#32
  let c0_i32_1970 : BitVec 32 := 0#32
  ![arg0.toNat, 0, 0, 0]
def k0_off176 (i : grid0.Coords) : Fin 4 → Nat :=
  let arg0 : BitVec 32 := BitVec.ofNat 32 (i 0).val
  let c64_i32_1976 : BitVec 32 := 64#32
  let c0_i32_1977 : BitVec 32 := 0#32
  let c0_i32_1978 : BitVec 32 := 0#32
  ![arg0.toNat, 64, 0, 0]
def k0_off177 (i : grid0.Coords) : Fin 4 → Nat :=
  let arg0 : BitVec 32 := BitVec.ofNat 32 (i 0).val
  let c128_i32_1984 : BitVec 32 := 128#32
  let c0_i32_1985 : BitVec 32 := 0#32
  let c0_i32_1986 : BitVec 32 := 0#32
  ![arg0.toNat, 128, 0, 0]
def k0_off178 (i : grid0.Coords) : Fin 4 → Nat :=
  let arg0 : BitVec 32 := BitVec.ofNat 32 (i 0).val
  let c192_i32_1992 : BitVec 32 := 192#32
  let c0_i32_1993 : BitVec 32 := 0#32
  let c0_i32_1994 : BitVec 32 := 0#32
  ![arg0.toNat, 192, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8x256x32x32x16 : Shape := ⟨5, ![8, 256, 32, 32, 16]⟩
abbrev S_ : Shape := ⟨0, ![]⟩
abbrev S1x256x1x1x1 : Shape := ⟨5, ![1, 256, 1, 1, 1]⟩
abbrev S256x256 : Shape := ⟨2, ![256, 256]⟩
abbrev S32 : Shape := ⟨1, ![32]⟩
abbrev S8x256x32x32 : Shape := ⟨4, ![8, 256, 32, 32]⟩
abbrev S8x32x256x32 : Shape := ⟨4, ![8, 32, 256, 32]⟩
abbrev S256x256x4x8 : Shape := ⟨4, ![256, 256, 4, 8]⟩
abbrev S256x256x4 : Shape := ⟨3, ![256, 256, 4]⟩
abbrev S8x32x256x4 : Shape := ⟨4, ![8, 32, 256, 4]⟩
abbrev S8x32x4x256 : Shape := ⟨4, ![8, 32, 4, 256]⟩
abbrev S8x128x256 : Shape := ⟨3, ![8, 128, 256]⟩
abbrev S8x256x128 : Shape := ⟨3, ![8, 256, 128]⟩
abbrev S8x256x45 : Shape := ⟨3, ![8, 256, 45]⟩
abbrev S8x256x45x1 : Shape := ⟨4, ![8, 256, 45, 1]⟩
abbrev S128 : Shape := ⟨1, ![128]⟩
abbrev S1x1x1x128 : Shape := ⟨4, ![1, 1, 1, 128]⟩
abbrev S8x256x45x128 : Shape := ⟨4, ![8, 256, 45, 128]⟩
abbrev S8x128 : Shape := ⟨2, ![8, 128]⟩
abbrev S8 : Shape := ⟨1, ![8]⟩
abbrev S8x1 : Shape := ⟨2, ![8, 1]⟩
abbrev S8x32x4 : Shape := ⟨3, ![8, 32, 4]⟩
abbrev S32x1 : Shape := ⟨2, ![32, 1]⟩
abbrev S8x32x32 : Shape := ⟨3, ![8, 32, 32]⟩
abbrev S1x1x32 : Shape := ⟨3, ![1, 1, 32]⟩
abbrev S8x1x32x32x1 : Shape := ⟨5, ![8, 1, 32, 32, 1]⟩
abbrev S8x256x32x4 : Shape := ⟨4, ![8, 256, 32, 4]⟩
abbrev S1x1x1x32 : Shape := ⟨4, ![1, 1, 1, 32]⟩
abbrev S8x256x32x32x1 : Shape := ⟨5, ![8, 256, 32, 32, 1]⟩

abbrev nBuf : Space → Nat
  | .hbm => 132
  | .vmem => 0
  | .smem => 0
  | _ => 0

abbrev hbmTy0_0 (i : Nat) : BufTy := match i % 128 with
  | 0 => ⟨S8x256x32x32x16, .f32⟩
  | 1 => ⟨S_, .f32⟩
  | 2 => ⟨S1x256x1x1x1, .f32⟩
  | 3 => ⟨S256x256, .f32⟩
  | 4 => ⟨S32, .i32⟩
  | 5 => ⟨S32, .i1⟩
  | 6 => ⟨S32, .f32⟩
  | 7 => ⟨S32, .i32⟩
  | 8 => ⟨S32, .i1⟩
  | 9 => ⟨S32, .f32⟩
  | 10 => ⟨S32, .i32⟩
  | 11 => ⟨S32, .i1⟩
  | 12 => ⟨S32, .f32⟩
  | 13 => ⟨S32, .i32⟩
  | 14 => ⟨S32, .i1⟩
  | 15 => ⟨S32, .f32⟩
  | 16 => ⟨S_, .f32⟩
  | 17 => ⟨S8x256x32x32, .f32⟩
  | 18 => ⟨S_, .f32⟩
  | 19 => ⟨S8x256x32x32, .f32⟩
  | 20 => ⟨S8x256x32x32, .f32⟩
  | 21 => ⟨S8x32x256x32, .f32⟩
  | 22 => ⟨S256x256x4x8, .f32⟩
  | 23 => ⟨S_, .f32⟩
  | 24 => ⟨S256x256x4, .f32⟩
  | 25 => ⟨S_, .f32⟩
  | 26 => ⟨S256x256x4, .f32⟩
  | 27 => ⟨S256x256x4, .f32⟩
  | 28 => ⟨S8x32x256x4, .f32⟩
  | 29 => ⟨S8x32x4x256, .f32⟩
  | 30 => ⟨S8x128x256, .f32⟩
  | 31 => ⟨S8x128x256, .f32⟩
  | 32 => ⟨S8x128x256, .f32⟩
  | 33 => ⟨S8x128x256, .f32⟩
  | 34 => ⟨S8x128x256, .f32⟩
  | 35 => ⟨S_, .f32⟩
  | 36 => ⟨S8x128x256, .f32⟩
  | 37 => ⟨S8x128x256, .f32⟩
  | 38 => ⟨S8x128x256, .f32⟩
  | 39 => ⟨S8x256x128, .f32⟩
  | 40 => ⟨S8x256x45, .f32⟩
  | 41 => ⟨S8x256x45, .i32⟩
  | 42 => ⟨S8x256x45x1, .i32⟩
  | 43 => ⟨S128, .i32⟩
  | 44 => ⟨S1x1x1x128, .i32⟩
  | 45 => ⟨S8x256x45x128, .i32⟩
  | 46 => ⟨S8x256x45x128, .i32⟩
  | 47 => ⟨S8x256x45x128, .i1⟩
  | 48 => ⟨S_, .i1⟩
  | 49 => ⟨S8x256x128, .i1⟩
  | 50 => ⟨S8x256x128, .f32⟩
  | 51 => ⟨S_, .f32⟩
  | 52 => ⟨S8x128, .f32⟩
  | 53 => ⟨S_, .f32⟩
  | 54 => ⟨S8x128, .f32⟩
  | 55 => ⟨S8x128, .f32⟩
  | 56 => ⟨S_, .f32⟩
  | 57 => ⟨S8, .f32⟩
  | 58 => ⟨S8x1, .f32⟩
  | 59 => ⟨S_, .f32⟩
  | 60 => ⟨S8x1, .f32⟩
  | 61 => ⟨S8x1, .f32⟩
  | 62 => ⟨S_, .f32⟩
  | 63 => ⟨S8x1, .f32⟩
  | 64 => ⟨S8x1, .f32⟩
  | 65 => ⟨S8x128, .f32⟩
  | 66 => ⟨S8x128, .f32⟩
  | 67 => ⟨S_, .f32⟩
  | 68 => ⟨S_, .f32⟩
  | 69 => ⟨S8x128, .f32⟩
  | 70 => ⟨S8x128, .f32⟩
  | 71 => ⟨S8x128, .f32⟩
  | 72 => ⟨S8x128, .f32⟩
  | 73 => ⟨S_, .f32⟩
  | 74 => ⟨S8x128, .f32⟩
  | 75 => ⟨S8x128, .f32⟩
  | 76 => ⟨S_, .f32⟩
  | 77 => ⟨S8x128, .f32⟩
  | 78 => ⟨S8x128, .f32⟩
  | 79 => ⟨S_, .f32⟩
  | 80 => ⟨S8x128, .f32⟩
  | 81 => ⟨S8x128, .f32⟩
  | 82 => ⟨S8x32x4, .f32⟩
  | 83 => ⟨S_, .i32⟩
  | 84 => ⟨S32, .i32⟩
  | 85 => ⟨S32, .i32⟩
  | 86 => ⟨S32, .i32⟩
  | 87 => ⟨S32x1, .i32⟩
  | 88 => ⟨S8x32x32, .f32⟩
  | 89 => ⟨S1x1x32, .f32⟩
  | 90 => ⟨S8x32x32, .f32⟩
  | 91 => ⟨S8x32x32, .f32⟩
  | 92 => ⟨S_, .i32⟩
  | 93 => ⟨S32, .i32⟩
  | 94 => ⟨S32, .i32⟩
  | 95 => ⟨S32, .i32⟩
  | 96 => ⟨S32x1, .i32⟩
  | 97 => ⟨S8x32x32, .f32⟩
  | 98 => ⟨S1x1x32, .f32⟩
  | 99 => ⟨S8x32x32, .f32⟩
  | 100 => ⟨S8x32x32, .f32⟩
  | 101 => ⟨S8x32x32, .f32⟩
  | 102 => ⟨S8x1x32x32x1, .f32⟩
  | 103 => ⟨S8x256x32x32x16, .f32⟩
  | 104 => ⟨S8x256x32x32x16, .f32⟩
  | 105 => ⟨S8x128x256, .f32⟩
  | 106 => ⟨S8x32x4x256, .f32⟩
  | 107 => ⟨S8x256x32x4, .f32⟩
  | 108 => ⟨S_, .i32⟩
  | 109 => ⟨S32, .i32⟩
  | 110 => ⟨S32, .i32⟩
  | 111 => ⟨S32, .i32⟩
  | 112 => ⟨S32x1, .i32⟩
  | 113 => ⟨S8x256x32x32, .f32⟩
  | 114 => ⟨S1x1x1x32, .f32⟩
  | 115 => ⟨S8x256x32x32, .f32⟩
  | 116 => ⟨S8x256x32x32, .f32⟩
  | 117 => ⟨S_, .i32⟩
  | 118 => ⟨S32, .i32⟩
  | 119 => ⟨S32, .i32⟩
  | 120 => ⟨S32, .i32⟩
  | 121 => ⟨S32x1, .i32⟩
  | 122 => ⟨S8x256x32x32, .f32⟩
  | 123 => ⟨S1x1x1x32, .f32⟩
  | 124 => ⟨S8x256x32x32, .f32⟩
  | 125 => ⟨S8x256x32x32, .f32⟩
  | 126 => ⟨S8x256x32x32, .f32⟩
  | 127 => ⟨S8x256x32x32x1, .f32⟩
  | _ => ⟨S8x256x32x32x16, .f32⟩

abbrev hbmTy0_1 (i : Nat) : BufTy := match i % 128 with
  | 0 => ⟨S8x256x32x32x1, .f32⟩
  | 1 => ⟨S8x256x32x32x1, .f32⟩
  | 2 => ⟨S8x256x32x32x16, .f32⟩
  | 3 => ⟨S8x256x32x32x16, .f32⟩
  | _ => ⟨S8x256x32x32x16, .f32⟩

abbrev hbmTy (i : Nat) : BufTy := match i / 128 with
  | 0 => hbmTy0_0 i
  | 1 => hbmTy0_1 i
  | _ => ⟨S8x256x32x32x16, .f32⟩

abbrev bufTy : (tb : Table) → Fin (tcTables nBuf tb) → BufTy
  | .hbm, ⟨i, _⟩ => hbmTy i
  | _, _ => ⟨S8x256x32x32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_c_0 : Ref sig .tc := ⟨.hbm, 5, rfl⟩
abbrev main_cst_1 : Ref sig .tc := ⟨.hbm, 6, rfl⟩
abbrev main_c_2 : Ref sig .tc := ⟨.hbm, 7, rfl⟩
abbrev main_c_3 : Ref sig .tc := ⟨.hbm, 8, rfl⟩
abbrev main_cst_4 : Ref sig .tc := ⟨.hbm, 9, rfl⟩
abbrev main_c_5 : Ref sig .tc := ⟨.hbm, 10, rfl⟩
abbrev main_c_6 : Ref sig .tc := ⟨.hbm, 11, rfl⟩
abbrev main_cst_7 : Ref sig .tc := ⟨.hbm, 12, rfl⟩
abbrev main_c_8 : Ref sig .tc := ⟨.hbm, 13, rfl⟩
abbrev main_c_9 : Ref sig .tc := ⟨.hbm, 14, rfl⟩
abbrev main_cst_10 : Ref sig .tc := ⟨.hbm, 15, rfl⟩
abbrev main_cst_11 : Ref sig .tc := ⟨.hbm, 16, rfl⟩
abbrev main_v0 : Ref sig .tc := ⟨.hbm, 17, rfl⟩
abbrev main_cst_12 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_13 : Ref sig .tc := ⟨.hbm, 23, rfl⟩
abbrev main_v5 : Ref sig .tc := ⟨.hbm, 24, rfl⟩
abbrev main_cst_14 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_15 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_values : Ref sig .tc := ⟨.hbm, 40, rfl⟩
abbrev main_indices : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_16 : Ref sig .tc := ⟨.hbm, 48, rfl⟩
abbrev main_v25 : Ref sig .tc := ⟨.hbm, 49, rfl⟩
abbrev main_v26 : Ref sig .tc := ⟨.hbm, 50, rfl⟩
abbrev main_cst_17 : Ref sig .tc := ⟨.hbm, 51, rfl⟩
abbrev main_v27 : Ref sig .tc := ⟨.hbm, 52, rfl⟩
abbrev main_cst_18 : Ref sig .tc := ⟨.hbm, 53, rfl⟩
abbrev main_v28 : Ref sig .tc := ⟨.hbm, 54, rfl⟩
abbrev main_v29 : Ref sig .tc := ⟨.hbm, 55, rfl⟩
abbrev main_cst_19 : Ref sig .tc := ⟨.hbm, 56, rfl⟩
abbrev main_v30 : Ref sig .tc := ⟨.hbm, 57, rfl⟩
abbrev main_v31 : Ref sig .tc := ⟨.hbm, 58, rfl⟩
abbrev main_cst_20 : Ref sig .tc := ⟨.hbm, 59, rfl⟩
abbrev main_v32 : Ref sig .tc := ⟨.hbm, 60, rfl⟩
abbrev main_v33 : Ref sig .tc := ⟨.hbm, 61, rfl⟩
abbrev main_cst_21 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_22 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_23 : Ref sig .tc := ⟨.hbm, 73, rfl⟩
abbrev main_v43 : Ref sig .tc := ⟨.hbm, 74, rfl⟩
abbrev main_v44 : Ref sig .tc := ⟨.hbm, 75, rfl⟩
abbrev main_cst_24 : Ref sig .tc := ⟨.hbm, 76, rfl⟩
abbrev main_v45 : Ref sig .tc := ⟨.hbm, 77, rfl⟩
abbrev main_v46 : Ref sig .tc := ⟨.hbm, 78, rfl⟩
abbrev main_cst_25 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_26 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_c_27 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_28 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_c_29 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩

abbrev nD : Nat := 1
abbrev τ : Topo := Topo.v7x

variable {F : FTy → Type} [FloatOps F]
-- ==== Proof.Ideal.Names.lean ====
/-
  Canonical names for what the fused kernel moves by its own transfers: block `q` of the input, slot `s` of the input
  buffer and its semaphore, chunk `i` of block `q` of the result, slot `i` of the output buffer and its semaphore. The
  printed offsets at grid point `n` are put in closed form (`n`, `n % 2`, `(n + 1) % 2`).
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Ring
public import Idealize.ShloMosaic.Lib.Tactic

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## The buffers -/

abbrev aM : Memref sig .tc .hbm S8x256x32x512 .f32 := Memref.whole main_call0_v0
abbrev oM : Memref sig .tc .hbm S8x256x32x512 .f32 := Memref.whole main_call0_v3
abbrev xM : Memref sig .tc .vmem S2x256x32x512 .f32 := Memref.whole cc0_scratch0
abbrev yM : Memref sig .tc .vmem S4x64x32x512 .f32 := Memref.whole cc0_scratch1
abbrev tM : Memref sig .tc .vmem S256x128 .f32 := Memref.whole cc0_scratch2
abbrev gM : Memref sig .tc .vmem S32x512 .f32 := Memref.whole cc0_scratch3

/-! ## Blocks, slots and semaphores by name -/

abbrev xbOff (q : Fin 8) : Fin 4 → Nat := ![q.val, 0, 0, 0]
theorem xbOff_inb (q : Fin 8) : ∀ a, xbOff q a + S1x256x32x512.size a ≤ S8x256x32x512.size a := by
  have := q.isLt; intro a; fin_cases a
  · show q.val + 1 ≤ 8; omega
  all_goals exact Nat.le_refl _
abbrev xsOff (s : Fin 2) : Fin 4 → Nat := ![s.val, 0, 0, 0]
theorem xsOff_inb (s : Fin 2) : ∀ a, xsOff s a + S1x256x32x512.size a ≤ S2x256x32x512.size a := by
  have := s.isLt; intro a; fin_cases a
  · show s.val + 1 ≤ 2; omega
  all_goals exact Nat.le_refl _
abbrev ysOff (i : Fin 4) : Fin 4 → Nat := ![i.val, 0, 0, 0]
theorem ysOff_inb (i : Fin 4) : ∀ a, ysOff i a + S1x64x32x512.size a ≤ S4x64x32x512.size a := by
  have := i.isLt; intro a; fin_cases a
  · show i.val + 1 ≤ 4; omega
  all_goals exact Nat.le_refl _
abbrev obOff (q : Fin 8) (i : Fin 4) : Fin 4 → Nat := ![q.val, 64 * i.val, 0, 0]
theorem obOff_inb (q : Fin 8) (i : Fin 4) : ∀ a, obOff q i a + S1x64x32x512.size a ≤ S8x256x32x512.size a := by
  have := q.isLt; have := i.isLt; intro a; fin_cases a
  · show q.val + 1 ≤ 8; omega
  · show 64 * i.val + 64 ≤ 256; omega
  all_goals exact Nat.le_refl _
abbrev isOff (s : Fin 2) : Fin 1 → Nat := ![s.val]
theorem isOff_inb (s : Fin 2) : ∀ a, isOff s a + S1.size a ≤ S2.size a := by
  have := s.isLt; intro a; fin_cases a; show s.val + 1 ≤ 2; omega
abbrev osOff (i : Fin 4) : Fin 1 → Nat := ![i.val]
theorem osOff_inb (i : Fin 4) : ∀ a, osOff i a + S1.size a ≤ S4.size a := by
  have := i.isLt; intro a; fin_cases a; show i.val + 1 ≤ 4; omega

/-- Block `q` of the input array. -/
def xblk (q : Fin 8) : Memref sig .tc .hbm S256x32x512 .f32 :=
  (aM.slice (Rect.unit (s := S8x256x32x512) (xbOff q) S1x256x32x512.size (xbOff_inb q)) (fun _ => rfl)).squeeze S256x32x512 squeezes_S1x256x32x512_S256x32x512
/-- Slot `s` of the input buffer. -/
def xslot (s : Fin 2) : Memref sig .tc .vmem S256x32x512 .f32 :=
  (xM.slice (Rect.unit (s := S2x256x32x512) (xsOff s) S1x256x32x512.size (xsOff_inb s)) (fun _ => rfl)).squeeze S256x32x512 squeezes_S1x256x32x512_S256x32x512
/-- Slot `s`'s semaphore. -/
def xsem (s : Fin 2) : DmaSems sig S_ := (cc0_scratch4.slice (Rect.unit (s := S2) (isOff s) S1.size (isOff_inb s))).squeeze S_ squeezes_S1_S_
/-- Chunk `i` of block `q` of the result. -/
def oblk (q : Fin 8) (i : Fin 4) : Memref sig .tc .hbm S64x32x512 .f32 :=
  (oM.slice (Rect.unit (s := S8x256x32x512) (obOff q i) S1x64x32x512.size (obOff_inb q i)) (fun _ => rfl)).squeeze S64x32x512 squeezes_S1x64x32x512_S64x32x512
/-- Slot `i` of the output buffer. -/
def yslot (i : Fin 4) : Memref sig .tc .vmem S64x32x512 .f32 :=
  (yM.slice (Rect.unit (s := S4x64x32x512) (ysOff i) S1x64x32x512.size (ysOff_inb i)) (fun _ => rfl)).squeeze S64x32x512 squeezes_S1x64x32x512_S64x32x512
/-- Slot `i`'s semaphore. -/
def ysem (i : Fin 4) : DmaSems sig S_ := (cc0_scratch5.slice (Rect.unit (s := S4) (osOff i) S1.size (osOff_inb i))).squeeze S_ squeezes_S1_S_

instance (q : Fin 8) : ClosedOff (xbOff q) := ⟨xbOff q, rfl⟩
instance (s : Fin 2) : ClosedOff (xsOff s) := ⟨xsOff s, rfl⟩
instance (i : Fin 4) : ClosedOff (ysOff i) := ⟨ysOff i, rfl⟩
instance (q : Fin 8) (i : Fin 4) : ClosedOff (obOff q i) := ⟨obOff q i, rfl⟩

/-! ## The printed offsets in closed form -/

/-- The grid point's number. -/
abbrev pn (i : grid0.Coords) : ℕ := (i 0).val
theorem pn_lt (i : grid0.Coords) : pn i < 8 := (i 0).isLt

/-- The first grid point. -/
def point0 : grid0.Coords := fun a => ⟨0, by fin_cases a; decide⟩

theorem word_val {n : ℕ} (h : n < 8) : (BitVec.ofNat 32 n).toNat = n := by
  rw [BitVec.toNat_ofNat]; omega
theorem word_succ {n : ℕ} (h : n < 8) : (Scalar.addi (BitVec.ofNat 32 n) 1#32).toNat = n + 1 := by
  have : ∀ n : Fin 8, (Scalar.addi (BitVec.ofNat 32 n.val) 1#32).toNat = n.val + 1 := by decide
  exact this ⟨n, h⟩
theorem word_rem {n : ℕ} (h : n < 8) : (Scalar.remsi (BitVec.ofNat 32 n) 2#32).toNat = n % 2 := by
  have : ∀ n : Fin 8, (Scalar.remsi (BitVec.ofNat 32 n.val) 2#32).toNat = n.val % 2 := by decide
  exact this ⟨n, h⟩
theorem word_rem_succ {n : ℕ} (h : n < 8) : (Scalar.remsi (Scalar.addi (BitVec.ofNat 32 n) 1#32) 2#32).toNat = (n + 1) % 2 := by
  have : ∀ n : Fin 8, (Scalar.remsi (Scalar.addi (BitVec.ofNat 32 n.val) 1#32) 2#32).toNat = (n.val + 1) % 2 := by decide
  exact this ⟨n, h⟩

theorem off1_eq (i : grid0.Coords) : k0_off1 i = isOff (Ring.sl 2 (pn i)) := congrArg (fun v : ℕ => ![v]) (word_rem (pn_lt i))
theorem off2_eq (i : grid0.Coords) : k0_off2 i = xsOff (Ring.sl 2 (pn i)) := congrArg (fun v : ℕ => ![v, 0, 0, 0]) (word_rem (pn_lt i))
theorem off3_eq (i : grid0.Coords) : k0_off3 i = xbOff (Ring.bk 8 (pn i)) :=
  congrArg (fun v : ℕ => ![v, 0, 0, 0]) ((word_val (pn_lt i)).trans (Ring.bk_val (pn_lt i)).symm)
theorem off4_eq (i : grid0.Coords) : k0_off4 i = isOff (Ring.sl 2 (pn i + 1)) := congrArg (fun v : ℕ => ![v]) (word_rem_succ (pn_lt i))
theorem off5_eq (i : grid0.Coords) : k0_off5 i = xsOff (Ring.sl 2 (pn i + 1)) := congrArg (fun v : ℕ => ![v, 0, 0, 0]) (word_rem_succ (pn_lt i))
theorem off6_eq (i : grid0.Coords) (h : pn i + 1 < 8) : k0_off6 i = xbOff (Ring.bk 8 (pn i + 1)) :=
  congrArg (fun v : ℕ => ![v, 0, 0, 0]) ((word_succ (pn_lt i)).trans (Ring.bk_val h).symm)
/-- Chunk `j` of the point's own block of the result. -/
theorem offO_eq (i : grid0.Coords) (j : Fin 4) :
    (![(BitVec.ofNat 32 (i 0).val).toNat, 64 * j.val, 0, 0] : Fin 4 → ℕ) = obOff (Ring.bk 8 (pn i)) j :=
  congrArg (fun v : ℕ => ![v, 64 * j.val, 0, 0]) ((word_val (pn_lt i)).trans (Ring.bk_val (pn_lt i)).symm)

/-- A window of the point's own slot of the input buffer: from row `a` on, token row `b`. -/
@[reducible] def closedX (i : grid0.Coords) (a b : ℕ) :
    ClosedOff (![(Scalar.indexCast (Scalar.remsi (BitVec.ofNat 32 (i 0).val) 2#32)).toNat, a, b, 0] : Fin 4 → ℕ) :=
  ⟨![(Ring.sl 2 (pn i)).val, a, b, 0], congrArg (fun v : ℕ => ![v, a, b, 0]) (word_rem (pn_lt i))⟩
instance (i : grid0.Coords) : ClosedOff (k0_off7 i) := closedX i 0 0
instance (i : grid0.Coords) : ClosedOff (k0_off8 i) := closedX i 0 1
instance (i : grid0.Coords) : ClosedOff (k0_off9 i) := closedX i 0 2
instance (i : grid0.Coords) : ClosedOff (k0_off10 i) := closedX i 0 3
instance (i : grid0.Coords) : ClosedOff (k0_off11 i) := closedX i 0 4
instance (i : grid0.Coords) : ClosedOff (k0_off12 i) := closedX i 0 5
instance (i : grid0.Coords) : ClosedOff (k0_off13 i) := closedX i 0 6
instance (i : grid0.Coords) : ClosedOff (k0_off14 i) := closedX i 0 7
instance (i : grid0.Coords) : ClosedOff (k0_off15 i) := closedX i 0 8
instance (i : grid0.Coords) : ClosedOff (k0_off16 i) := closedX i 0 9
instance (i : grid0.Coords) : ClosedOff (k0_off17 i) := closedX i 0 10
instance (i : grid0.Coords) : ClosedOff (k0_off18 i) := closedX i 0 11
instance (i : grid0.Coords) : ClosedOff (k0_off19 i) := closedX i 0 12
instance (i : grid0.Coords) : ClosedOff (k0_off20 i) := closedX i 0 13
instance (i : grid0.Coords) : ClosedOff (k0_off21 i) := closedX i 0 14
instance (i : grid0.Coords) : ClosedOff (k0_off22 i) := closedX i 0 15
instance (i : grid0.Coords) : ClosedOff (k0_off23 i) := closedX i 0 16
instance (i : grid0.Coords) : ClosedOff (k0_off24 i) := closedX i 0 17
instance (i : grid0.Coords) : ClosedOff (k0_off25 i) := closedX i 0 18
instance (i : grid0.Coords) : ClosedOff (k0_off26 i) := closedX i 0 19
instance (i : grid0.Coords) : ClosedOff (k0_off27 i) := closedX i 0 20
instance (i : grid0.Coords) : ClosedOff (k0_off28 i) := closedX i 0 21
instance (i : grid0.Coords) : ClosedOff (k0_off29 i) := closedX i 0 22
instance (i : grid0.Coords) : ClosedOff (k0_off30 i) := closedX i 0 23
instance (i : grid0.Coords) : ClosedOff (k0_off31 i) := closedX i 0 24
instance (i : grid0.Coords) : ClosedOff (k0_off32 i) := closedX i 0 25
instance (i : grid0.Coords) : ClosedOff (k0_off33 i) := closedX i 0 26
instance (i : grid0.Coords) : ClosedOff (k0_off34 i) := closedX i 0 27
instance (i : grid0.Coords) : ClosedOff (k0_off35 i) := closedX i 0 28
instance (i : grid0.Coords) : ClosedOff (k0_off36 i) := closedX i 0 29
instance (i : grid0.Coords) : ClosedOff (k0_off37 i) := closedX i 0 30
instance (i : grid0.Coords) : ClosedOff (k0_off38 i) := closedX i 0 31
instance (i : grid0.Coords) : ClosedOff (k0_off40 i) := closedX i 0 0
instance (i : grid0.Coords) : ClosedOff (k0_off41 i) := closedX i 0 1
instance (i : grid0.Coords) : ClosedOff (k0_off42 i) := closedX i 0 2
instance (i : grid0.Coords) : ClosedOff (k0_off43 i) := closedX i 0 3
instance (i : grid0.Coords) : ClosedOff (k0_off44 i) := closedX i 0 4
instance (i : grid0.Coords) : ClosedOff (k0_off45 i) := closedX i 0 5
instance (i : grid0.Coords) : ClosedOff (k0_off46 i) := closedX i 0 6
instance (i : grid0.Coords) : ClosedOff (k0_off47 i) := closedX i 0 7
instance (i : grid0.Coords) : ClosedOff (k0_off48 i) := closedX i 0 8
instance (i : grid0.Coords) : ClosedOff (k0_off49 i) := closedX i 0 9
instance (i : grid0.Coords) : ClosedOff (k0_off50 i) := closedX i 0 10
instance (i : grid0.Coords) : ClosedOff (k0_off51 i) := closedX i 0 11
instance (i : grid0.Coords) : ClosedOff (k0_off52 i) := closedX i 0 12
instance (i : grid0.Coords) : ClosedOff (k0_off53 i) := closedX i 0 13
instance (i : grid0.Coords) : ClosedOff (k0_off54 i) := closedX i 0 14
instance (i : grid0.Coords) : ClosedOff (k0_off55 i) := closedX i 0 15
instance (i : grid0.Coords) : ClosedOff (k0_off56 i) := closedX i 0 16
instance (i : grid0.Coords) : ClosedOff (k0_off57 i) := closedX i 0 17
instance (i : grid0.Coords) : ClosedOff (k0_off58 i) := closedX i 0 18
instance (i : grid0.Coords) : ClosedOff (k0_off59 i) := closedX i 0 19
instance (i : grid0.Coords) : ClosedOff (k0_off60 i) := closedX i 0 20
instance (i : grid0.Coords) : ClosedOff (k0_off61 i) := closedX i 0 21
instance (i : grid0.Coords) : ClosedOff (k0_off62 i) := closedX i 0 22
instance (i : grid0.Coords) : ClosedOff (k0_off63 i) := closedX i 0 23
instance (i : grid0.Coords) : ClosedOff (k0_off64 i) := closedX i 0 24
instance (i : grid0.Coords) : ClosedOff (k0_off65 i) := closedX i 0 25
instance (i : grid0.Coords) : ClosedOff (k0_off66 i) := closedX i 0 26
instance (i : grid0.Coords) : ClosedOff (k0_off67 i) := closedX i 0 27
instance (i : grid0.Coords) : ClosedOff (k0_off68 i) := closedX i 0 28
instance (i : grid0.Coords) : ClosedOff (k0_off69 i) := closedX i 0 29
instance (i : grid0.Coords) : ClosedOff (k0_off70 i) := closedX i 0 30
instance (i : grid0.Coords) : ClosedOff (k0_off71 i) := closedX i 0 31
instance (i : grid0.Coords) : ClosedOff (k0_off74 i) := closedX i 64 0
instance (i : grid0.Coords) : ClosedOff (k0_off75 i) := closedX i 64 1
instance (i : grid0.Coords) : ClosedOff (k0_off76 i) := closedX i 64 2
instance (i : grid0.Coords) : ClosedOff (k0_off77 i) := closedX i 64 3
instance (i : grid0.Coords) : ClosedOff (k0_off78 i) := closedX i 64 4
instance (i : grid0.Coords) : ClosedOff (k0_off79 i) := closedX i 64 5
instance (i : grid0.Coords) : ClosedOff (k0_off80 i) := closedX i 64 6
instance (i : grid0.Coords) : ClosedOff (k0_off81 i) := closedX i 64 7
instance (i : grid0.Coords) : ClosedOff (k0_off82 i) := closedX i 64 8
instance (i : grid0.Coords) : ClosedOff (k0_off83 i) := closedX i 64 9
instance (i : grid0.Coords) : ClosedOff (k0_off84 i) := closedX i 64 10
instance (i : grid0.Coords) : ClosedOff (k0_off85 i) := closedX i 64 11
instance (i : grid0.Coords) : ClosedOff (k0_off86 i) := closedX i 64 12
instance (i : grid0.Coords) : ClosedOff (k0_off87 i) := closedX i 64 13
instance (i : grid0.Coords) : ClosedOff (k0_off88 i) := closedX i 64 14
instance (i : grid0.Coords) : ClosedOff (k0_off89 i) := closedX i 64 15
instance (i : grid0.Coords) : ClosedOff (k0_off90 i) := closedX i 64 16
instance (i : grid0.Coords) : ClosedOff (k0_off91 i) := closedX i 64 17
instance (i : grid0.Coords) : ClosedOff (k0_off92 i) := closedX i 64 18
instance (i : grid0.Coords) : ClosedOff (k0_off93 i) := closedX i 64 19
instance (i : grid0.Coords) : ClosedOff (k0_off94 i) := closedX i 64 20
instance (i : grid0.Coords) : ClosedOff (k0_off95 i) := closedX i 64 21
instance (i : grid0.Coords) : ClosedOff (k0_off96 i) := closedX i 64 22
instance (i : grid0.Coords) : ClosedOff (k0_off97 i) := closedX i 64 23
instance (i : grid0.Coords) : ClosedOff (k0_off98 i) := closedX i 64 24
instance (i : grid0.Coords) : ClosedOff (k0_off99 i) := closedX i 64 25
instance (i : grid0.Coords) : ClosedOff (k0_off100 i) := closedX i 64 26
instance (i : grid0.Coords) : ClosedOff (k0_off101 i) := closedX i 64 27
instance (i : grid0.Coords) : ClosedOff (k0_off102 i) := closedX i 64 28
instance (i : grid0.Coords) : ClosedOff (k0_off103 i) := closedX i 64 29
instance (i : grid0.Coords) : ClosedOff (k0_off104 i) := closedX i 64 30
instance (i : grid0.Coords) : ClosedOff (k0_off105 i) := closedX i 64 31
instance (i : grid0.Coords) : ClosedOff (k0_off108 i) := closedX i 128 0
instance (i : grid0.Coords) : ClosedOff (k0_off109 i) := closedX i 128 1
instance (i : grid0.Coords) : ClosedOff (k0_off110 i) := closedX i 128 2
instance (i : grid0.Coords) : ClosedOff (k0_off111 i) := closedX i 128 3
instance (i : grid0.Coords) : ClosedOff (k0_off112 i) := closedX i 128 4
instance (i : grid0.Coords) : ClosedOff (k0_off113 i) := closedX i 128 5
instance (i : grid0.Coords) : ClosedOff (k0_off114 i) := closedX i 128 6
instance (i : grid0.Coords) : ClosedOff (k0_off115 i) := closedX i 128 7
instance (i : grid0.Coords) : ClosedOff (k0_off116 i) := closedX i 128 8
instance (i : grid0.Coords) : ClosedOff (k0_off117 i) := closedX i 128 9
instance (i : grid0.Coords) : ClosedOff (k0_off118 i) := closedX i 128 10
instance (i : grid0.Coords) : ClosedOff (k0_off119 i) := closedX i 128 11
instance (i : grid0.Coords) : ClosedOff (k0_off120 i) := closedX i 128 12
instance (i : grid0.Coords) : ClosedOff (k0_off121 i) := closedX i 128 13
instance (i : grid0.Coords) : ClosedOff (k0_off122 i) := closedX i 128 14
instance (i : grid0.Coords) : ClosedOff (k0_off123 i) := closedX i 128 15
instance (i : grid0.Coords) : ClosedOff (k0_off124 i) := closedX i 128 16
instance (i : grid0.Coords) : ClosedOff (k0_off125 i) := closedX i 128 17
instance (i : grid0.Coords) : ClosedOff (k0_off126 i) := closedX i 128 18
instance (i : grid0.Coords) : ClosedOff (k0_off127 i) := closedX i 128 19
instance (i : grid0.Coords) : ClosedOff (k0_off128 i) := closedX i 128 20
instance (i : grid0.Coords) : ClosedOff (k0_off129 i) := closedX i 128 21
instance (i : grid0.Coords) : ClosedOff (k0_off130 i) := closedX i 128 22
instance (i : grid0.Coords) : ClosedOff (k0_off131 i) := closedX i 128 23
instance (i : grid0.Coords) : ClosedOff (k0_off132 i) := closedX i 128 24
instance (i : grid0.Coords) : ClosedOff (k0_off133 i) := closedX i 128 25
instance (i : grid0.Coords) : ClosedOff (k0_off134 i) := closedX i 128 26
instance (i : grid0.Coords) : ClosedOff (k0_off135 i) := closedX i 128 27
instance (i : grid0.Coords) : ClosedOff (k0_off136 i) := closedX i 128 28
instance (i : grid0.Coords) : ClosedOff (k0_off137 i) := closedX i 128 29
instance (i : grid0.Coords) : ClosedOff (k0_off138 i) := closedX i 128 30
instance (i : grid0.Coords) : ClosedOff (k0_off139 i) := closedX i 128 31
instance (i : grid0.Coords) : ClosedOff (k0_off142 i) := closedX i 192 0
instance (i : grid0.Coords) : ClosedOff (k0_off143 i) := closedX i 192 1
instance (i : grid0.Coords) : ClosedOff (k0_off144 i) := closedX i 192 2
instance (i : grid0.Coords) : ClosedOff (k0_off145 i) := closedX i 192 3
instance (i : grid0.Coords) : ClosedOff (k0_off146 i) := closedX i 192 4
instance (i : grid0.Coords) : ClosedOff (k0_off147 i) := closedX i 192 5
instance (i : grid0.Coords) : ClosedOff (k0_off148 i) := closedX i 192 6
instance (i : grid0.Coords) : ClosedOff (k0_off149 i) := closedX i 192 7
instance (i : grid0.Coords) : ClosedOff (k0_off150 i) := closedX i 192 8
instance (i : grid0.Coords) : ClosedOff (k0_off151 i) := closedX i 192 9
instance (i : grid0.Coords) : ClosedOff (k0_off152 i) := closedX i 192 10
instance (i : grid0.Coords) : ClosedOff (k0_off153 i) := closedX i 192 11
instance (i : grid0.Coords) : ClosedOff (k0_off154 i) := closedX i 192 12
instance (i : grid0.Coords) : ClosedOff (k0_off155 i) := closedX i 192 13
instance (i : grid0.Coords) : ClosedOff (k0_off156 i) := closedX i 192 14
instance (i : grid0.Coords) : ClosedOff (k0_off157 i) := closedX i 192 15
instance (i : grid0.Coords) : ClosedOff (k0_off158 i) := closedX i 192 16
instance (i : grid0.Coords) : ClosedOff (k0_off159 i) := closedX i 192 17
instance (i : grid0.Coords) : ClosedOff (k0_off160 i) := closedX i 192 18
instance (i : grid0.Coords) : ClosedOff (k0_off161 i) := closedX i 192 19
instance (i : grid0.Coords) : ClosedOff (k0_off162 i) := closedX i 192 20
instance (i : grid0.Coords) : ClosedOff (k0_off163 i) := closedX i 192 21
instance (i : grid0.Coords) : ClosedOff (k0_off164 i) := closedX i 192 22
instance (i : grid0.Coords) : ClosedOff (k0_off165 i) := closedX i 192 23
instance (i : grid0.Coords) : ClosedOff (k0_off166 i) := closedX i 192 24
instance (i : grid0.Coords) : ClosedOff (k0_off167 i) := closedX i 192 25
instance (i : grid0.Coords) : ClosedOff (k0_off168 i) := closedX i 192 26
instance (i : grid0.Coords) : ClosedOff (k0_off169 i) := closedX i 192 27
instance (i : grid0.Coords) : ClosedOff (k0_off170 i) := closedX i 192 28
instance (i : grid0.Coords) : ClosedOff (k0_off171 i) := closedX i 192 29
instance (i : grid0.Coords) : ClosedOff (k0_off172 i) := closedX i 192 30
instance (i : grid0.Coords) : ClosedOff (k0_off173 i) := closedX i 192 31

/-! ## The canonical-name equations -/

theorem xsem_congr {off : Fin 1 → Nat} {s : Fin 2} (e : off = isOff s) (hh) :
    (cc0_scratch4.slice (Rect.unit (s := S2) off S1.size hh)).squeeze S_ squeezes_S1_S_ = xsem s :=
  congrArg (fun A : DmaSems sig S1 => A.squeeze S_ squeezes_S1_S_) (SemArray.slice_unit_congr _ e _ _)
theorem ysem_congr {off : Fin 1 → Nat} {s : Fin 4} (e : off = osOff s) (hh) :
    (cc0_scratch5.slice (Rect.unit (s := S4) off S1.size hh)).squeeze S_ squeezes_S1_S_ = ysem s :=
  congrArg (fun A : DmaSems sig S1 => A.squeeze S_ squeezes_S1_S_) (SemArray.slice_unit_congr _ e _ _)
theorem xslot_congr {off : Fin 4 → Nat} {s : Fin 2} (e : off = xsOff s) (hh hs) :
    (xM.slice (Rect.unit (s := S2x256x32x512) off S1x256x32x512.size hh) hs).squeeze S256x32x512 squeezes_S1x256x32x512_S256x32x512 = xslot s :=
  congrArg (fun M : Memref sig .tc .vmem S1x256x32x512 .f32 => M.squeeze S256x32x512 squeezes_S1x256x32x512_S256x32x512) (Memref.slice_unit_congr _ e _ _ _ _)
theorem xblk_congr {off : Fin 4 → Nat} {q : Fin 8} (e : off = xbOff q) (hh hs) :
    (aM.slice (Rect.unit (s := S8x256x32x512) off S1x256x32x512.size hh) hs).squeeze S256x32x512 squeezes_S1x256x32x512_S256x32x512 = xblk q :=
  congrArg (fun M : Memref sig .tc .hbm S1x256x32x512 .f32 => M.squeeze S256x32x512 squeezes_S1x256x32x512_S256x32x512) (Memref.slice_unit_congr _ e _ _ _ _)
theorem yslot_congr {off : Fin 4 → Nat} {s : Fin 4} (e : off = ysOff s) (hh hs) :
    (yM.slice (Rect.unit (s := S4x64x32x512) off S1x64x32x512.size hh) hs).squeeze S64x32x512 squeezes_S1x64x32x512_S64x32x512 = yslot s :=
  congrArg (fun M : Memref sig .tc .vmem S1x64x32x512 .f32 => M.squeeze S64x32x512 squeezes_S1x64x32x512_S64x32x512) (Memref.slice_unit_congr _ e _ _ _ _)
theorem oblk_congr {off : Fin 4 → Nat} {q : Fin 8} {j : Fin 4} (e : off = obOff q j) (hh hs) :
    (oM.slice (Rect.unit (s := S8x256x32x512) off S1x64x32x512.size hh) hs).squeeze S64x32x512 squeezes_S1x64x32x512_S64x32x512 = oblk q j :=
  congrArg (fun M : Memref sig .tc .hbm S1x64x32x512 .f32 => M.squeeze S64x32x512 squeezes_S1x64x32x512_S64x32x512) (Memref.slice_unit_congr _ e _ _ _ _)

section Canon
variable (i : grid0.Coords)

@[sl_canon] theorem xsem0 (hh) : (cc0_scratch4.slice (Rect.unit (s := S2) ![0] S1.size hh)).squeeze S_ squeezes_S1_S_ = xsem (Ring.sl 2 (pn point0)) := xsem_congr (by decide) _
@[sl_canon] theorem xsemW (hh) : (cc0_scratch4.slice (Rect.unit (s := S2) (k0_off1 i) S1.size hh)).squeeze S_ squeezes_S1_S_ = xsem (Ring.sl 2 (pn i)) := xsem_congr (off1_eq i) _
@[sl_canon] theorem xsemI (hh) : (cc0_scratch4.slice (Rect.unit (s := S2) (k0_off4 i) S1.size hh)).squeeze S_ squeezes_S1_S_ = xsem (Ring.sl 2 (pn i + 1)) := xsem_congr (off4_eq i) _
@[sl_canon] theorem xslot0 (hh hs) : (xM.slice (Rect.unit (s := S2x256x32x512) ![0, 0, 0, 0] S1x256x32x512.size hh) hs).squeeze S256x32x512 squeezes_S1x256x32x512_S256x32x512 = xslot (Ring.sl 2 (pn point0)) := xslot_congr (by decide) _ _
@[sl_canon] theorem xslotW (hh hs) : (xM.slice (Rect.unit (s := S2x256x32x512) (k0_off2 i) S1x256x32x512.size hh) hs).squeeze S256x32x512 squeezes_S1x256x32x512_S256x32x512 = xslot (Ring.sl 2 (pn i)) := xslot_congr (off2_eq i) _ _
@[sl_canon] theorem xslotI (hh hs) : (xM.slice (Rect.unit (s := S2x256x32x512) (k0_off5 i) S1x256x32x512.size hh) hs).squeeze S256x32x512 squeezes_S1x256x32x512_S256x32x512 = xslot (Ring.sl 2 (pn i + 1)) := xslot_congr (off5_eq i) _ _
@[sl_canon] theorem xblk0 (hh hs) : (aM.slice (Rect.unit (s := S8x256x32x512) ![0, 0, 0, 0] S1x256x32x512.size hh) hs).squeeze S256x32x512 squeezes_S1x256x32x512_S256x32x512 = xblk (Ring.bk 8 (pn point0)) := xblk_congr (by decide) _ _
@[sl_canon] theorem xblkW (hh hs) : (aM.slice (Rect.unit (s := S8x256x32x512) (k0_off3 i) S1x256x32x512.size hh) hs).squeeze S256x32x512 squeezes_S1x256x32x512_S256x32x512 = xblk (Ring.bk 8 (pn i)) := xblk_congr (off3_eq i) _ _
@[sl_canon] theorem xblkI (h : pn i + 1 < 8) (hh hs) : (aM.slice (Rect.unit (s := S8x256x32x512) (k0_off6 i) S1x256x32x512.size hh) hs).squeeze S256x32x512 squeezes_S1x256x32x512_S256x32x512 = xblk (Ring.bk 8 (pn i + 1)) := xblk_congr (off6_eq i h) _ _
@[sl_canon] theorem ysem0 (hh) : (cc0_scratch5.slice (Rect.unit (s := S4) ![0] S1.size hh)).squeeze S_ squeezes_S1_S_ = ysem 0 := ysem_congr (by decide) _
@[sl_canon] theorem yslot0 (hh hs) : (yM.slice (Rect.unit (s := S4x64x32x512) ![0, 0, 0, 0] S1x64x32x512.size hh) hs).squeeze S64x32x512 squeezes_S1x64x32x512_S64x32x512 = yslot 0 := yslot_congr (by decide) _ _
@[sl_canon] theorem ysem1 (hh) : (cc0_scratch5.slice (Rect.unit (s := S4) ![1] S1.size hh)).squeeze S_ squeezes_S1_S_ = ysem 1 := ysem_congr (by decide) _
@[sl_canon] theorem yslot1 (hh hs) : (yM.slice (Rect.unit (s := S4x64x32x512) ![1, 0, 0, 0] S1x64x32x512.size hh) hs).squeeze S64x32x512 squeezes_S1x64x32x512_S64x32x512 = yslot 1 := yslot_congr (by decide) _ _
@[sl_canon] theorem ysem2 (hh) : (cc0_scratch5.slice (Rect.unit (s := S4) ![2] S1.size hh)).squeeze S_ squeezes_S1_S_ = ysem 2 := ysem_congr (by decide) _
@[sl_canon] theorem yslot2 (hh hs) : (yM.slice (Rect.unit (s := S4x64x32x512) ![2, 0, 0, 0] S1x64x32x512.size hh) hs).squeeze S64x32x512 squeezes_S1x64x32x512_S64x32x512 = yslot 2 := yslot_congr (by decide) _ _
@[sl_canon] theorem ysem3 (hh) : (cc0_scratch5.slice (Rect.unit (s := S4) ![3] S1.size hh)).squeeze S_ squeezes_S1_S_ = ysem 3 := ysem_congr (by decide) _
@[sl_canon] theorem yslot3 (hh hs) : (yM.slice (Rect.unit (s := S4x64x32x512) ![3, 0, 0, 0] S1x64x32x512.size hh) hs).squeeze S64x32x512 squeezes_S1x64x32x512_S64x32x512 = yslot 3 := yslot_congr (by decide) _ _
@[sl_canon] theorem oblkW0 (hh hs) : (oM.slice (Rect.unit (s := S8x256x32x512) (k0_off39 i) S1x64x32x512.size hh) hs).squeeze S64x32x512 squeezes_S1x64x32x512_S64x32x512 = oblk (Ring.bk 8 (pn i)) 0 := oblk_congr (offO_eq i 0) _ _
@[sl_canon] theorem oblkW1 (hh hs) : (oM.slice (Rect.unit (s := S8x256x32x512) (k0_off73 i) S1x64x32x512.size hh) hs).squeeze S64x32x512 squeezes_S1x64x32x512_S64x32x512 = oblk (Ring.bk 8 (pn i)) 1 := oblk_congr (offO_eq i 1) _ _
@[sl_canon] theorem oblkW2 (hh hs) : (oM.slice (Rect.unit (s := S8x256x32x512) (k0_off107 i) S1x64x32x512.size hh) hs).squeeze S64x32x512 squeezes_S1x64x32x512_S64x32x512 = oblk (Ring.bk 8 (pn i)) 2 := oblk_congr (offO_eq i 2) _ _
@[sl_canon] theorem oblkW3 (hh hs) : (oM.slice (Rect.unit (s := S8x256x32x512) (k0_off141 i) S1x64x32x512.size hh) hs).squeeze S64x32x512 squeezes_S1x64x32x512_S64x32x512 = oblk (Ring.bk 8 (pn i)) 3 := oblk_congr (offO_eq i 3) _ _
@[sl_canon] theorem oblkI0 (hh hs) : (oM.slice (Rect.unit (s := S8x256x32x512) (k0_off72 i) S1x64x32x512.size hh) hs).squeeze S64x32x512 squeezes_S1x64x32x512_S64x32x512 = oblk (Ring.bk 8 (pn i)) 0 := oblk_congr (offO_eq i 0) _ _
@[sl_canon] theorem oblkI1 (hh hs) : (oM.slice (Rect.unit (s := S8x256x32x512) (k0_off106 i) S1x64x32x512.size hh) hs).squeeze S64x32x512 squeezes_S1x64x32x512_S64x32x512 = oblk (Ring.bk 8 (pn i)) 1 := oblk_congr (offO_eq i 1) _ _
@[sl_canon] theorem oblkI2 (hh hs) : (oM.slice (Rect.unit (s := S8x256x32x512) (k0_off140 i) S1x64x32x512.size hh) hs).squeeze S64x32x512 squeezes_S1x64x32x512_S64x32x512 = oblk (Ring.bk 8 (pn i)) 2 := oblk_congr (offO_eq i 2) _ _
@[sl_canon] theorem oblkI3 (hh hs) : (oM.slice (Rect.unit (s := S8x256x32x512) (k0_off174 i) S1x64x32x512.size hh) hs).squeeze S64x32x512 squeezes_S1x64x32x512_S64x32x512 = oblk (Ring.bk 8 (pn i)) 3 := oblk_congr (offO_eq i 3) _ _
@[sl_canon] theorem oblkL0 (hh hs) : (oM.slice (Rect.unit (s := S8x256x32x512) (k0_off175 i) S1x64x32x512.size hh) hs).squeeze S64x32x512 squeezes_S1x64x32x512_S64x32x512 = oblk (Ring.bk 8 (pn i)) 0 := oblk_congr (offO_eq i 0) _ _
@[sl_canon] theorem oblkL1 (hh hs) : (oM.slice (Rect.unit (s := S8x256x32x512) (k0_off176 i) S1x64x32x512.size hh) hs).squeeze S64x32x512 squeezes_S1x64x32x512_S64x32x512 = oblk (Ring.bk 8 (pn i)) 1 := oblk_congr (offO_eq i 1) _ _
@[sl_canon] theorem oblkL2 (hh hs) : (oM.slice (Rect.unit (s := S8x256x32x512) (k0_off177 i) S1x64x32x512.size hh) hs).squeeze S64x32x512 squeezes_S1x64x32x512_S64x32x512 = oblk (Ring.bk 8 (pn i)) 2 := oblk_congr (offO_eq i 2) _ _
@[sl_canon] theorem oblkL3 (hh hs) : (oM.slice (Rect.unit (s := S8x256x32x512) (k0_off178 i) S1x64x32x512.size hh) hs).squeeze S64x32x512 squeezes_S1x64x32x512_S64x32x512 = oblk (Ring.bk 8 (pn i)) 3 := oblk_congr (offO_eq i 3) _ _

end Canon

end Cert.Proof.Ideal

end
-- ==== Proof.Ideal.Pieces.lean ====
/-
  What the kernel's core holds: a buffer whole or on a view's elements, a semaphore's counter, a block home, and a
  transfer under way.
-/
module

public import proofs.«01_k».proof.Proof.Ideal.Names
public import Idealize.ShloMosaic.Lib.Pipeline.FrameSuffixV

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ (Pipeline.UD sig nD τ) ℕ

/-- No loop of the launch has a variant. -/
abbrev 𝒱₀ : Variants := Variants.none

theorem ysem_at0 : (ysem 0).sem = ⟨7, by decide⟩ := rfl
theorem ysem_at1 : (ysem 1).sem = ⟨8, by decide⟩ := rfl
theorem ysem_at2 : (ysem 2).sem = ⟨9, by decide⟩ := rfl
theorem ysem_at3 : (ysem 3).sem = ⟨10, by decide⟩ := rfl

section Pieces
variable (c : Dev nD)

/-- Memref `M`'s contents type on core `c`, it held whole, and it held on its elements. -/
abbrev Bf {sp : Space} {S : Shape} {e : EltTy} (M : Memref sig .tc sp S e) : Type := Buf (Elt F) (M.view.loc (c : Thread nD τ))
abbrev pt {sp : Space} {S : Shape} {e : EltTy} (M : Memref sig .tc sp S e) (f : Bf (F := F) c M) : sProp 𝕄 :=
  M.view.loc (c : Thread nD τ) ↦{fullShare} f
abbrev pv {sp : Space} {S : Shape} {e : EltTy} (M : Memref sig .tc sp S e) (f : Bf (F := F) c M) : sProp 𝕄 :=
  M.view.loc (c : Thread nD τ) ↦[M.view.set]{fullShare} f

abbrev xcell (s : Fin 2) : sProp 𝕄 := semVal ((c : Thread nD τ), SemLoc.dma (xsem s).sem) 0
abbrev ycell (s : Fin 4) : sProp 𝕄 := semVal ((c : Thread nD τ), SemLoc.dma (ysem s).sem) 0
/-- Block `q` of the input, held. -/
abbrev xhome (XA : Bf (F := F) c aM) (q : Fin 8) : sProp 𝕄 := pv c (xblk q) XA
/-- Block `q` on its way into slot `s`: the slot at `f` and the block come back with it. -/
abbrev xfly (XA : Bf (F := F) c aM) (s : Fin 2) (q : Fin 8) (f : Bf (F := F) c (xslot s)) : sProp 𝕄 :=
  Transfers.Flight countersEmb (c : Thread nD τ) (SemLoc.dma (xsem s).sem) () 524288 iprop(pv c (xslot s) f ∗ xhome c XA q)
/-- Block `q`'s words, as its transfer carries them. -/
abbrev xpay (XA : Bf (F := F) c aM) (q : Fin 8) : S256x32x512.Idx → Elt F .f32 := ReadAs.same.apply ((xblk q).view.read (Elt F) XA)
/-- What a transfer of the words `p` leaves in slot `s` over `f`. -/
abbrev xland (s : Fin 2) (p : S256x32x512.Idx → Elt F .f32) (f : Bf (F := F) c (xslot s)) : Bf (F := F) c (xslot s) :=
  (xslot s).view.writes (Elt F) f [⟨Rect.whole S256x32x512, p⟩]
/-- What a transfer of the words `p` leaves in chunk `s` of block `q` over `h`. -/
abbrev yland (s : Fin 4) (q : Fin 8) (p : S64x32x512.Idx → Elt F .f32) (h : Bf (F := F) c (oblk q s)) : Bf (F := F) c (oblk q s) :=
  (oblk q s).view.writes (Elt F) h [⟨Rect.whole S64x32x512, p⟩]
/-- Slot `s` on its way into chunk `s` of block `q`: the chunk at `h` and the slot at `f` come back with it. -/
abbrev yfly (s : Fin 4) (q : Fin 8) (h : Bf (F := F) c (oblk q s)) (f : Bf (F := F) c (yslot s)) : sProp 𝕄 :=
  Transfers.Flight countersEmb (c : Thread nD τ) (SemLoc.dma (ysem s).sem) () 131072 iprop(pv c (oblk q s) h ∗ pv c (yslot s) f)
/-- A slot's flight, its semaphore named by number. -/
theorem yfly_at (s : Fin 4) (q : Fin 8) (h : Bf (F := F) c (oblk q s)) (f : Bf (F := F) c (yslot s)) {k} (e : (ysem s).sem = k) :
    yfly c s q h f = Transfers.Flight countersEmb (c : Thread nD τ) (SemLoc.dma k) () 131072 iprop(pv c (oblk q s) h ∗ pv c (yslot s) f) := by
  rw [← e]
end Pieces

end Cert.Proof.Ideal

end
-- ==== Proof.Ideal.Mid.lean ====
/-
  A grid point between the first and the last, run once: it waits its own block in, issues the next one, computes the
  four chunks, and for each waits the chunk's previous transfer out and issues its own.
-/
module

public import proofs.«01_k».proof.Proof.Ideal.Pieces

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What a middle point sends out (each chunk over its slot's earlier contents), WITH the run. -/
def midRun (c : Dev nD) (i : grid0.Coords) (q : Fin 8)
    (h1 : ¬ Scalar.cmpi .ne (Scalar.extui (Scalar.cmpi .eq (BitVec.ofNat 32 (i 0).val) 0#32)) 0#32 = 1#1)
    (h2 : k0_cond2 i = 1#1) (h3 : k0_cond3 i = 1#1) (h4 : k0_cond4 i = 1#1) (h5 : k0_cond5 i = 1#1) (h6 : k0_cond6 i = 1#1)
    (h7 : ¬ k0_cond7 i = 1#1) (hn : pn i + 1 < 8)
    (M2 : Memref sig .tc .vmem S256x256 .f32) (w2 : M2.IsWhole) (M3 : Memref sig .tc .vmem S512x4 .f32) (w3 : M3.IsWhole)
    (M4 : Memref sig .tc .vmem S4x512 .f32) (w4 : M4.IsWhole) (M5 : Memref sig .tc .vmem S256x1 .f32) (w5 : M5.IsWhole)
    (M6 : Memref sig .tc .smem S1x1 .f32) (w6 : M6.IsWhole)
    (XA : Bf (F := F) c aM) (px : S256x32x512.Idx → Elt F .f32)
    (f2 : Bf (F := F) c M2) (f3 : Bf (F := F) c M3) (f4 : Bf (F := F) c M4) (f5 : Bf (F := F) c M5) (f6 : Bf (F := F) c M6) :
    { W : ((Bf (F := F) c (yslot 0) → S64x32x512.Idx → Elt F .f32) × (Bf (F := F) c (yslot 1) → S64x32x512.Idx → Elt F .f32)
          × (Bf (F := F) c (yslot 2) → S64x32x512.Idx → Elt F .f32) × (Bf (F := F) c (yslot 3) → S64x32x512.Idx → Elt F .f32))
        × ((Bf (F := F) c (yslot 0) → Bf (F := F) c (yslot 0)) × (Bf (F := F) c (yslot 1) → Bf (F := F) c (yslot 1))
          × (Bf (F := F) c (yslot 2) → Bf (F := F) c (yslot 2)) × (Bf (F := F) c (yslot 3) → Bf (F := F) c (yslot 3))) //
      ∀ (fx : Bf (F := F) c (xslot (Ring.sl 2 (pn i)))) (fn : Bf (F := F) c (xslot (Ring.sl 2 (pn i + 1)))) (ft : Bf (F := F) c tM) (fg : Bf (F := F) c gM)
        (y0 : Bf (F := F) c (yslot 0)) (y1 : Bf (F := F) c (yslot 1)) (y2 : Bf (F := F) c (yslot 2)) (y3 : Bf (F := F) c (yslot 3))
        (p0 : Bf (F := F) c (oblk q 0)) (p1 : Bf (F := F) c (oblk q 1)) (p2 : Bf (F := F) c (oblk q 2)) (p3 : Bf (F := F) c (oblk q 3))
        (o0 : Bf (F := F) c (oblk (Ring.bk 8 (pn i)) 0)) (o1 : Bf (F := F) c (oblk (Ring.bk 8 (pn i)) 1))
        (o2 : Bf (F := F) c (oblk (Ring.bk 8 (pn i)) 2)) (o3 : Bf (F := F) c (oblk (Ring.bk 8 (pn i)) 3))
        (Q : PUnit → sProp 𝕄),
        iprop((pt c M2 f2 ∗ pt c M3 f3 ∗ pt c M4 f4 ∗ pt c M5 f5 ∗ pt c M6 f6) ∗ pt c tM ft ∗ pt c gM fg
          ∗ (∃ W, owes (c : Thread nD τ) 0 W)
          ∗ xfly c XA (Ring.sl 2 (pn i)) (Ring.bk 8 (pn i)) (xland c _ px fx)
          ∗ (pv c (xslot (Ring.sl 2 (pn i + 1))) fn ∗ xcell c (Ring.sl 2 (pn i + 1)) ∗ xhome c XA (Ring.bk 8 (pn i + 1)))
          ∗ (yfly c 0 q p0 y0 ∗ yfly c 1 q p1 y1 ∗ yfly c 2 q p2 y2 ∗ yfly c 3 q p3 y3)
          ∗ (pv c (oblk (Ring.bk 8 (pn i)) 0) o0 ∗ pv c (oblk (Ring.bk 8 (pn i)) 1) o1 ∗ pv c (oblk (Ring.bk 8 (pn i)) 2) o2 ∗ pv c (oblk (Ring.bk 8 (pn i)) 3) o3)
          ∗ (iprop((pt c M2 f2 ∗ pt c M3 f3 ∗ pt c M4 f4 ∗ pt c M5 f5 ∗ pt c M6 f6) ∗ (∃ f, pt c tM f) ∗ (∃ f, pt c gM f)
              ∗ (∃ W, owes (c : Thread nD τ) 0 W)
              ∗ ((∃ f, pv c (xslot (Ring.sl 2 (pn i))) f) ∗ xcell c (Ring.sl 2 (pn i)) ∗ xhome c XA (Ring.bk 8 (pn i)))
              ∗ xfly c XA (Ring.sl 2 (pn i + 1)) (Ring.bk 8 (pn i + 1)) (xland c _ (xpay c XA (Ring.bk 8 (pn i + 1))) fn)
              ∗ (pv c (oblk q 0) p0 ∗ pv c (oblk q 1) p1 ∗ pv c (oblk q 2) p2 ∗ pv c (oblk q 3) p3)
              ∗ (yfly c 0 (Ring.bk 8 (pn i)) (yland c 0 _ (W.1.1 y0) o0) (W.2.1 y0)
                  ∗ yfly c 1 (Ring.bk 8 (pn i)) (yland c 1 _ (W.1.2.1 y1) o1) (W.2.2.1 y1)
                  ∗ yfly c 2 (Ring.bk 8 (pn i)) (yland c 2 _ (W.1.2.2.1 y2) o2) (W.2.2.2.1 y2)
                  ∗ yfly c 3 (Ring.bk 8 (pn i)) (yland c 3 _ (W.1.2.2.2 y3) o3) (W.2.2.2.2 y3))) -∗ Q ⟨⟩))
        ⊢ wp frame (wpE (defs₀ (F := F)) 𝒱₀ (c : Thread nD τ) none) Set.univ
            (cc0__fused_kernel i aM (Memref.isWhole_whole _) M2 w2 M3 w3 M4 w4 M5 w5 M6 w6 oM (Memref.isWhole_whole _) xM (Memref.isWhole_whole _)
              yM (Memref.isWhole_whole _) tM (Memref.isWhole_whole _) gM (Memref.isWhole_whole _) cc0_scratch4 cc0_scratch5) Q } := by
  refine ⟨⟨⟨?D0, ?D1, ?D2, ?D3⟩, ?W0, ?W1, ?W2, ?W3⟩, fun fx fn ft fg y0 y1 y2 y3 p0 p1 p2 p3 o0 o1 o2 o3 Q => ?run⟩
  rotate_left 8
  dsimp only
  iintro ⟨⟨H2, H3, H4, H5, H6⟩, Ht, Hg, ⟨%W, HW⟩, HX, ⟨HN, HNc, HNb⟩, ⟨HY0, HY1, HY2, HY3⟩, ⟨HO0, HO1, HO2, HO3⟩, Hk⟩
  sl_exec_parts!
  sl_step
  case D0 => exact fun y => midRun.sl.dma388 c i M2 M3 M4 M5 M6 px f2 f3 f4 f5 f6 y
  case D1 => exact fun y => midRun.sl.dma548 c i M2 M3 M4 M5 M6 px f2 f3 f4 f5 f6 y
  case D2 => exact fun y => midRun.sl.dma708 c i M2 M3 M4 M5 M6 px f2 f3 f4 f5 f6 y
  case D3 => exact fun y => midRun.sl.dma868 c i M2 M3 M4 M5 M6 px f2 f3 f4 f5 f6 y
  case W0 => exact fun y => midRun.sl.HY0_src_w32 c i M2 M3 M4 M5 M6 px f2 f3 f4 f5 f6 y
  case W1 => exact fun y => midRun.sl.HY1_src_w64 c i M2 M3 M4 M5 M6 px f2 f3 f4 f5 f6 y
  case W2 => exact fun y => midRun.sl.HY2_src_w96 c i M2 M3 M4 M5 M6 px f2 f3 f4 f5 f6 y
  case W3 => exact fun y => midRun.sl.HY3_src_w128 c i M2 M3 M4 M5 M6 px f2 f3 f4 f5 f6 y
  iapply Hk
  isplitl [H2 H3 H4 H5 H6]
  · isplitl [H2]; · iexact H2
    isplitl [H3]; · iexact H3
    isplitl [H4]; · iexact H4
    isplitl [H5]; · iexact H5
    iexact H6
  isplitl [Ht]; · iexists _; iexact Ht
  isplitl [Hg]; · iexists _; iexact Hg
  isplitl [HW]; · iexists _; iexact HW
  isplitl [HX_dst HX HX_src]
  · isplitl [HX_dst]; · iexists _; iexact HX_dst
    isplitl [HX]; · iexact HX
    iexact HX_src
  isplitl [HNc]; · iexact HNc
  isplitl [HY0_dst HY1_dst HY2_dst HY3_dst]
  · isplitl [HY0_dst]; · iexact HY0_dst
    isplitl [HY1_dst]; · iexact HY1_dst
    isplitl [HY2_dst]; · iexact HY2_dst
    iexact HY3_dst
  isplitl [HY0]; · iexact HY0
  isplitl [HY1]; · iexact HY1
  isplitl [HY2]; · iexact HY2
  iexact HY3

end Cert.Proof.Ideal

end
-- ==== Proof.Ideal.First.lean ====
/-
  The first grid point: it also issues its own block's transfer, and no chunk waits for an earlier one.
-/
module

public import proofs.«01_k».proof.Proof.Ideal.Mid

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What the first point sends out, WITH the run. -/
def firstRun (c : Dev nD)
    (h1 : Scalar.cmpi .ne (Scalar.extui (Scalar.cmpi .eq (BitVec.ofNat 32 (point0 0).val) 0#32)) 0#32 = 1#1)
    (h2 : k0_cond2 point0 = 1#1) (h3 : ¬ k0_cond3 point0 = 1#1) (h4 : ¬ k0_cond4 point0 = 1#1) (h5 : ¬ k0_cond5 point0 = 1#1) (h6 : ¬ k0_cond6 point0 = 1#1)
    (h7 : ¬ k0_cond7 point0 = 1#1) (hn : pn point0 + 1 < 8)
    (M2 : Memref sig .tc .vmem S256x256 .f32) (w2 : M2.IsWhole) (M3 : Memref sig .tc .vmem S512x4 .f32) (w3 : M3.IsWhole)
    (M4 : Memref sig .tc .vmem S4x512 .f32) (w4 : M4.IsWhole) (M5 : Memref sig .tc .vmem S256x1 .f32) (w5 : M5.IsWhole)
    (M6 : Memref sig .tc .smem S1x1 .f32) (w6 : M6.IsWhole)
    (XA : Bf (F := F) c aM)
    (f2 : Bf (F := F) c M2) (f3 : Bf (F := F) c M3) (f4 : Bf (F := F) c M4) (f5 : Bf (F := F) c M5) (f6 : Bf (F := F) c M6) :
    { W : ((Bf (F := F) c (yslot 0) → S64x32x512.Idx → Elt F .f32) × (Bf (F := F) c (yslot 1) → S64x32x512.Idx → Elt F .f32)
          × (Bf (F := F) c (yslot 2) → S64x32x512.Idx → Elt F .f32) × (Bf (F := F) c (yslot 3) → S64x32x512.Idx → Elt F .f32))
        × ((Bf (F := F) c (yslot 0) → Bf (F := F) c (yslot 0)) × (Bf (F := F) c (yslot 1) → Bf (F := F) c (yslot 1))
          × (Bf (F := F) c (yslot 2) → Bf (F := F) c (yslot 2)) × (Bf (F := F) c (yslot 3) → Bf (F := F) c (yslot 3))) //
      ∀ (fx : Bf (F := F) c (xslot (Ring.sl 2 (pn point0)))) (fn : Bf (F := F) c (xslot (Ring.sl 2 (pn point0 + 1)))) (ft : Bf (F := F) c tM) (fg : Bf (F := F) c gM)
        (y0 : Bf (F := F) c (yslot 0)) (y1 : Bf (F := F) c (yslot 1)) (y2 : Bf (F := F) c (yslot 2)) (y3 : Bf (F := F) c (yslot 3))
        (o0 : Bf (F := F) c (oblk (Ring.bk 8 (pn point0)) 0)) (o1 : Bf (F := F) c (oblk (Ring.bk 8 (pn point0)) 1))
        (o2 : Bf (F := F) c (oblk (Ring.bk 8 (pn point0)) 2)) (o3 : Bf (F := F) c (oblk (Ring.bk 8 (pn point0)) 3))
        (Q : PUnit → sProp 𝕄),
        iprop((pt c M2 f2 ∗ pt c M3 f3 ∗ pt c M4 f4 ∗ pt c M5 f5 ∗ pt c M6 f6) ∗ pt c tM ft ∗ pt c gM fg
          ∗ (∃ W, owes (c : Thread nD τ) 0 W)
          ∗ (pv c (xslot (Ring.sl 2 (pn point0))) fx ∗ xcell c (Ring.sl 2 (pn point0)) ∗ xhome c XA (Ring.bk 8 (pn point0)))
          ∗ (pv c (xslot (Ring.sl 2 (pn point0 + 1))) fn ∗ xcell c (Ring.sl 2 (pn point0 + 1)) ∗ xhome c XA (Ring.bk 8 (pn point0 + 1)))
          ∗ ((pv c (yslot 0) y0 ∗ ycell c 0) ∗ (pv c (yslot 1) y1 ∗ ycell c 1) ∗ (pv c (yslot 2) y2 ∗ ycell c 2) ∗ (pv c (yslot 3) y3 ∗ ycell c 3))
          ∗ (pv c (oblk (Ring.bk 8 (pn point0)) 0) o0 ∗ pv c (oblk (Ring.bk 8 (pn point0)) 1) o1 ∗ pv c (oblk (Ring.bk 8 (pn point0)) 2) o2 ∗ pv c (oblk (Ring.bk 8 (pn point0)) 3) o3)
          ∗ (iprop((pt c M2 f2 ∗ pt c M3 f3 ∗ pt c M4 f4 ∗ pt c M5 f5 ∗ pt c M6 f6) ∗ (∃ f, pt c tM f) ∗ (∃ f, pt c gM f)
              ∗ (∃ W, owes (c : Thread nD τ) 0 W)
              ∗ ((∃ f, pv c (xslot (Ring.sl 2 (pn point0))) f) ∗ xcell c (Ring.sl 2 (pn point0)) ∗ xhome c XA (Ring.bk 8 (pn point0)))
              ∗ xfly c XA (Ring.sl 2 (pn point0 + 1)) (Ring.bk 8 (pn point0 + 1)) (xland c _ (xpay c XA (Ring.bk 8 (pn point0 + 1))) fn)
              ∗ (yfly c 0 (Ring.bk 8 (pn point0)) (yland c 0 _ (W.1.1 y0) o0) (W.2.1 y0)
                  ∗ yfly c 1 (Ring.bk 8 (pn point0)) (yland c 1 _ (W.1.2.1 y1) o1) (W.2.2.1 y1)
                  ∗ yfly c 2 (Ring.bk 8 (pn point0)) (yland c 2 _ (W.1.2.2.1 y2) o2) (W.2.2.2.1 y2)
                  ∗ yfly c 3 (Ring.bk 8 (pn point0)) (yland c 3 _ (W.1.2.2.2 y3) o3) (W.2.2.2.2 y3))) -∗ Q ⟨⟩))
        ⊢ wp frame (wpE (defs₀ (F := F)) 𝒱₀ (c : Thread nD τ) none) Set.univ
            (cc0__fused_kernel point0 aM (Memref.isWhole_whole _) M2 w2 M3 w3 M4 w4 M5 w5 M6 w6 oM (Memref.isWhole_whole _) xM (Memref.isWhole_whole _)
              yM (Memref.isWhole_whole _) tM (Memref.isWhole_whole _) gM (Memref.isWhole_whole _) cc0_scratch4 cc0_scratch5) Q } := by
  refine ⟨⟨⟨?D0, ?D1, ?D2, ?D3⟩, ?W0, ?W1, ?W2, ?W3⟩, fun fx fn ft fg y0 y1 y2 y3 o0 o1 o2 o3 Q => ?run⟩
  rotate_left 8
  dsimp only
  iintro ⟨⟨H2, H3, H4, H5, H6⟩, Ht, Hg, ⟨%W, HW⟩, ⟨HX_dst, HX, HX_src⟩, ⟨HN, HNc, HNb⟩, ⟨⟨HY0_src, HY0⟩, ⟨HY1_src, HY1⟩, ⟨HY2_src, HY2⟩, ⟨HY3_src, HY3⟩⟩, ⟨HO0, HO1, HO2, HO3⟩, Hk⟩
  sl_exec_parts!
  sl_step
  case D0 => exact fun y => firstRun.sl.dma388 c M2 M3 M4 M5 M6 XA f2 f3 f4 f5 f6 y
  case D1 => exact fun y => firstRun.sl.dma548 c M2 M3 M4 M5 M6 XA f2 f3 f4 f5 f6 y
  case D2 => exact fun y => firstRun.sl.dma708 c M2 M3 M4 M5 M6 XA f2 f3 f4 f5 f6 y
  case D3 => exact fun y => firstRun.sl.dma868 c M2 M3 M4 M5 M6 XA f2 f3 f4 f5 f6 y
  case W0 => exact fun y => firstRun.sl.HY0_src_w32 c M2 M3 M4 M5 M6 XA f2 f3 f4 f5 f6 y
  case W1 => exact fun y => firstRun.sl.HY1_src_w64 c M2 M3 M4 M5 M6 XA f2 f3 f4 f5 f6 y
  case W2 => exact fun y => firstRun.sl.HY2_src_w96 c M2 M3 M4 M5 M6 XA f2 f3 f4 f5 f6 y
  case W3 => exact fun y => firstRun.sl.HY3_src_w128 c M2 M3 M4 M5 M6 XA f2 f3 f4 f5 f6 y
  iapply Hk
  isplitl [H2 H3 H4 H5 H6]
  · isplitl [H2]; · iexact H2
    isplitl [H3]; · iexact H3
    isplitl [H4]; · iexact H4
    isplitl [H5]; · iexact H5
    iexact H6
  isplitl [Ht]; · iexists _; iexact Ht
  isplitl [Hg]; · iexists _; iexact Hg
  isplitl [HW]; · iexists _; iexact HW
  isplitl [HX_dst HX HX_src]
  · isplitl [HX_dst]; · iexists _; iexact HX_dst
    isplitl [HX]; · iexact HX
    iexact HX_src
  isplitl [HNc]; · iexact HNc
  isplitl [HY0]; · iexact HY0
  isplitl [HY1]; · iexact HY1
  isplitl [HY2]; · iexact HY2
  iexact HY3

end Cert.Proof.Ideal

end
-- ==== Proof.Ideal.Last.lean ====
/-
  The last grid point: it issues no further block, and waits its own four chunks out at its end.
-/
module

public import proofs.«01_k».proof.Proof.Ideal.First

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- What the last point sends out, WITH the run. -/
def lastRun (c : Dev nD) (i : grid0.Coords) (q : Fin 8)
    (h1 : ¬ Scalar.cmpi .ne (Scalar.extui (Scalar.cmpi .eq (BitVec.ofNat 32 (i 0).val) 0#32)) 0#32 = 1#1)
    (h2 : ¬ k0_cond2 i = 1#1) (h3 : k0_cond3 i = 1#1) (h4 : k0_cond4 i = 1#1) (h5 : k0_cond5 i = 1#1) (h6 : k0_cond6 i = 1#1)
    (h7 : k0_cond7 i = 1#1)
    (M2 : Memref sig .tc .vmem S256x256 .f32) (w2 : M2.IsWhole) (M3 : Memref sig .tc .vmem S512x4 .f32) (w3 : M3.IsWhole)
    (M4 : Memref sig .tc .vmem S4x512 .f32) (w4 : M4.IsWhole) (M5 : Memref sig .tc .vmem S256x1 .f32) (w5 : M5.IsWhole)
    (M6 : Memref sig .tc .smem S1x1 .f32) (w6 : M6.IsWhole)
    (XA : Bf (F := F) c aM) (px : S256x32x512.Idx → Elt F .f32)
    (f2 : Bf (F := F) c M2) (f3 : Bf (F := F) c M3) (f4 : Bf (F := F) c M4) (f5 : Bf (F := F) c M5) (f6 : Bf (F := F) c M6) :
    { W : (Bf (F := F) c (yslot 0) → S64x32x512.Idx → Elt F .f32) × (Bf (F := F) c (yslot 1) → S64x32x512.Idx → Elt F .f32)
          × (Bf (F := F) c (yslot 2) → S64x32x512.Idx → Elt F .f32) × (Bf (F := F) c (yslot 3) → S64x32x512.Idx → Elt F .f32) //
      ∀ (fx : Bf (F := F) c (xslot (Ring.sl 2 (pn i)))) (ft : Bf (F := F) c tM) (fg : Bf (F := F) c gM)
        (y0 : Bf (F := F) c (yslot 0)) (y1 : Bf (F := F) c (yslot 1)) (y2 : Bf (F := F) c (yslot 2)) (y3 : Bf (F := F) c (yslot 3))
        (p0 : Bf (F := F) c (oblk q 0)) (p1 : Bf (F := F) c (oblk q 1)) (p2 : Bf (F := F) c (oblk q 2)) (p3 : Bf (F := F) c (oblk q 3))
        (o0 : Bf (F := F) c (oblk (Ring.bk 8 (pn i)) 0)) (o1 : Bf (F := F) c (oblk (Ring.bk 8 (pn i)) 1))
        (o2 : Bf (F := F) c (oblk (Ring.bk 8 (pn i)) 2)) (o3 : Bf (F := F) c (oblk (Ring.bk 8 (pn i)) 3))
        (Q : PUnit → sProp 𝕄),
        iprop((pt c M2 f2 ∗ pt c M3 f3 ∗ pt c M4 f4 ∗ pt c M5 f5 ∗ pt c M6 f6) ∗ pt c tM ft ∗ pt c gM fg
          ∗ (∃ W, owes (c : Thread nD τ) 0 W)
          ∗ xfly c XA (Ring.sl 2 (pn i)) (Ring.bk 8 (pn i)) (xland c _ px fx)
          ∗ (yfly c 0 q p0 y0 ∗ yfly c 1 q p1 y1 ∗ yfly c 2 q p2 y2 ∗ yfly c 3 q p3 y3)
          ∗ (pv c (oblk (Ring.bk 8 (pn i)) 0) o0 ∗ pv c (oblk (Ring.bk 8 (pn i)) 1) o1 ∗ pv c (oblk (Ring.bk 8 (pn i)) 2) o2 ∗ pv c (oblk (Ring.bk 8 (pn i)) 3) o3)
          ∗ (iprop((pt c M2 f2 ∗ pt c M3 f3 ∗ pt c M4 f4 ∗ pt c M5 f5 ∗ pt c M6 f6) ∗ (∃ f, pt c tM f) ∗ (∃ f, pt c gM f)
              ∗ (∃ W, owes (c : Thread nD τ) 0 W)
              ∗ ((∃ f, pv c (xslot (Ring.sl 2 (pn i))) f) ∗ xcell c (Ring.sl 2 (pn i)) ∗ xhome c XA (Ring.bk 8 (pn i)))
              ∗ (pv c (oblk q 0) p0 ∗ pv c (oblk q 1) p1 ∗ pv c (oblk q 2) p2 ∗ pv c (oblk q 3) p3)
              ∗ ((pv c (oblk (Ring.bk 8 (pn i)) 0) (yland c 0 _ (W.1 y0) o0) ∗ pv c (oblk (Ring.bk 8 (pn i)) 1) (yland c 1 _ (W.2.1 y1) o1)
                  ∗ pv c (oblk (Ring.bk 8 (pn i)) 2) (yland c 2 _ (W.2.2.1 y2) o2) ∗ pv c (oblk (Ring.bk 8 (pn i)) 3) (yland c 3 _ (W.2.2.2 y3) o3))
                ∗ (((∃ f, pv c (yslot 0) f) ∗ ycell c 0) ∗ ((∃ f, pv c (yslot 1) f) ∗ ycell c 1)
                  ∗ ((∃ f, pv c (yslot 2) f) ∗ ycell c 2) ∗ ((∃ f, pv c (yslot 3) f) ∗ ycell c 3)))) -∗ Q ⟨⟩))
        ⊢ wp frame (wpE (defs₀ (F := F)) 𝒱₀ (c : Thread nD τ) none) Set.univ
            (cc0__fused_kernel i aM (Memref.isWhole_whole _) M2 w2 M3 w3 M4 w4 M5 w5 M6 w6 oM (Memref.isWhole_whole _) xM (Memref.isWhole_whole _)
              yM (Memref.isWhole_whole _) tM (Memref.isWhole_whole _) gM (Memref.isWhole_whole _) cc0_scratch4 cc0_scratch5) Q } := by
  refine ⟨⟨?D0, ?D1, ?D2, ?D3⟩, fun fx ft fg y0 y1 y2 y3 p0 p1 p2 p3 o0 o1 o2 o3 Q => ?run⟩
  rotate_left 4
  dsimp only
  iintro ⟨⟨H2, H3, H4, H5, H6⟩, Ht, Hg, ⟨%W, HW⟩, HX, ⟨HY0, HY1, HY2, HY3⟩, ⟨HO0, HO1, HO2, HO3⟩, Hk⟩
  sl_exec_parts!
  sl_step
  case D0 => exact fun y => lastRun.sl.dma388 c i M2 M3 M4 M5 M6 px f2 f3 f4 f5 f6 y
  case D1 => exact fun y => lastRun.sl.dma548 c i M2 M3 M4 M5 M6 px f2 f3 f4 f5 f6 y
  case D2 => exact fun y => lastRun.sl.dma708 c i M2 M3 M4 M5 M6 px f2 f3 f4 f5 f6 y
  case D3 => exact fun y => lastRun.sl.dma868 c i M2 M3 M4 M5 M6 px f2 f3 f4 f5 f6 y
  iapply Hk
  isplitl [H2 H3 H4 H5 H6]
  · isplitl [H2]; · iexact H2
    isplitl [H3]; · iexact H3
    isplitl [H4]; · iexact H4
    isplitl [H5]; · iexact H5
    iexact H6
  isplitl [Ht]; · iexists _; iexact Ht
  isplitl [Hg]; · iexists _; iexact Hg
  isplitl [HW]; · iexists _; iexact HW
  isplitl [HX_dst HX HX_src]
  · isplitl [HX_dst]; · iexists _; iexact HX_dst
    isplitl [HX]; · iexact HX
    iexact HX_src
  isplitl [HY0_dst HY1_dst HY2_dst HY3_dst]
  · isplitl [HY0_dst]; · iexact HY0_dst
    isplitl [HY1_dst]; · iexact HY1_dst
    isplitl [HY2_dst]; · iexact HY2_dst
    iexact HY3_dst
  isplitl [HO0 HO1 HO2 HO3]
  · isplitl [HO0]; · iexact HO0
    isplitl [HO1]; · iexact HO1
    isplitl [HO2]; · iexact HO2
    iexact HO3
  isplitl [HY0_src HY0]
  · isplitl [HY0_src]; · iexists _; iexact HY0_src
    iexact HY0
  isplitl [HY1_src HY1]
  · isplitl [HY1_src]; · iexists _; iexact HY1_src
    iexact HY1
  isplitl [HY2_src HY2]
  · isplitl [HY2_src]; · iexists _; iexact HY2_src
    iexact HY2
  isplitl [HY3_src]; · iexists _; iexact HY3_src
  iexact HY3

end Cert.Proof.Ideal

end
-- ==== Proof.Ideal.Values.lean ====
/-
  What a grid point computes, as functions of the block it fetched and the staged operands: the printed values in one
  form for all tokens and chunks.
-/
module

public import Idealize.ShloMosaic.Lib.WritesUnit
public import Idealize.ShloMosaic.Lib.ValueIdxCore
public import proofs.«01_k».proof.Proof.Ideal.Last

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The printed values, one form for all tokens and chunks -/

/-- The x slot a grid point uses, as the kernel computes it. -/
abbrev slotWord (i : grid0.Coords) : ℕ := (Scalar.indexCast (Scalar.remsi (BitVec.ofNat 32 (i 0).val) 2#32)).toNat
theorem slotWord_eq (i : grid0.Coords) : slotWord i = (Ring.sl 2 (pn i)).val := word_rem (pn_lt i)

theorem poolOff_inb (i : grid0.Coords) (s : Fin 32) :
    ∀ a, (![slotWord i, 0, s.val, 0] : Fin 4 → ℕ) a + S1x256x1x512.size a ≤ S2x256x32x512.size a := by
  have := s.isLt; have h := slotWord_eq i; have := (Ring.sl 2 (pn i)).isLt
  intro a; fin_cases a
  · show slotWord i + 1 ≤ 2; omega
  · exact Nat.le_refl 256
  · show s.val + 1 ≤ 32; omega
  · exact Nat.le_refl 512
theorem rowOff_inb (i : grid0.Coords) (j : Fin 4) (s : Fin 32) :
    ∀ a, (![slotWord i, 64 * j.val, s.val, 0] : Fin 4 → ℕ) a + S1x64x1x512.size a ≤ S2x256x32x512.size a := by
  have := s.isLt; have := j.isLt; have h := slotWord_eq i; have := (Ring.sl 2 (pn i)).isLt
  intro a; fin_cases a
  · show slotWord i + 1 ≤ 2; omega
  · show 64 * j.val + 64 ≤ 256; omega
  · show s.val + 1 ≤ 32; omega
  · exact Nat.le_refl 512
theorem tokOff_inb (s : Fin 32) : ∀ a, (![0, 4 * s.val] : Fin 2 → ℕ) a + S256x4.size a ≤ S256x128.size a := by
  have := s.isLt; intro a; fin_cases a
  · exact Nat.le_refl 256
  · show 4 * s.val + 4 ≤ 128; omega
theorem gOff_inb (s : Fin 32) : ∀ a, (![s.val, 0] : Fin 2 → ℕ) a + S1x512.size a ≤ S32x512.size a := by
  have := s.isLt; intro a; fin_cases a
  · show s.val + 1 ≤ 32; omega
  · exact Nat.le_refl 512
theorem stOff_inb (j : Fin 4) (s : Fin 32) :
    ∀ a, (![j.val, 0, s.val, 0] : Fin 4 → ℕ) a + S1x64x1x512.size a ≤ S4x64x32x512.size a := by
  have := s.isLt; have := j.isLt; intro a; fin_cases a
  · show j.val + 1 ≤ 4; omega
  · exact Nat.le_refl 64
  · show s.val + 1 ≤ 32; omega
  · exact Nat.le_refl 512
theorem dsc_slices (j : Fin 4) (s : Fin 32) : S256x128.Slices ![64 * j.val, 4 * s.val] S64x4 :=
  ⟨rfl, by
    have := s.isLt; have := j.isLt; intro a; fin_cases a
    · show 64 * j.val + 64 ≤ 256; omega
    · show 4 * s.val + 4 ≤ 128; omega⟩
theorem gate_slices (s : Fin 32) : S1x128.Slices ![0, 4 * s.val] S1x4 :=
  ⟨rfl, by
    have := s.isLt; intro a; fin_cases a
    · exact Nat.le_refl 1
    · show 4 * s.val + 4 ≤ 128; omega⟩

/-- The x slot after the fetch of a block. -/
abbrev xin (i : grid0.Coords) (px : S256x32x512.Idx → Elt F .f32) : (xslot (Ring.sl 2 (pn i))).view.ty.Contents (Elt F) :=
  (xslot (Ring.sl 2 (pn i))).view.writes (Elt F) (xslot (Ring.sl 2 (pn i))).view.junk [⟨Rect.whole S256x32x512, px⟩]
/-- All 256 rows of token row `s`. -/
abbrev poolLoad (i : grid0.Coords) (px : S256x32x512.Idx → Elt F .f32) (s : Fin 32) : Vec F S1x256x1x512 .f32 :=
  View.readAt (Elt F) xM.view (Rect.unit (s := S2x256x32x512) ![slotWord i, 0, s.val, 0] S1x256x1x512.size (poolOff_inb i s)).toLoadRect (xin i px)
/-- The rows of chunk `j` of token row `s`. -/
abbrev rowLoad (i : grid0.Coords) (px : S256x32x512.Idx → Elt F .f32) (j : Fin 4) (s : Fin 32) : Vec F S1x64x1x512 .f32 :=
  View.readAt (Elt F) xM.view (Rect.unit (s := S2x256x32x512) ![slotWord i, 64 * j.val, s.val, 0] S1x64x1x512.size (rowOff_inb i j s)).toLoadRect (xin i px)

/-- The cut found by bisection: the lower and the upper end after 31 halvings. -/
def bisect (b : IVec S256x128x128 1) : IVec S256x1 32 × IVec S256x1 32 :=
  Scf.fold (n := 31) (fun _ a => (k0_pay47 b 1#32 0#32 a.1 a.2, k0_pay48 b 1#32 0#32 a.1 a.2)) (k0_pay43, k0_pay44)

/-- The gate of every token. -/
def gateOf (tok : FVec F S256x128 .f32) (mt : FVec F S256x256 .f32) (gs : F .f32) : FVec F S1x128 .f32 :=
  k0_pay49 (k0_pay41 tok mt) 1#32 0#32 (bisect (k0_pay41 tok mt)).2 gs

/-- The residual of every token, scaled. -/
def dscOf (tok : FVec F S256x128 .f32) (mt : FVec F S256x256 .f32) (rs : FVec F S256x1 .f32) : FVec F S256x128 .f32 :=
  k0_pay51 (k0_pay40 tok mt) (k0_pay50 rs)

/-- Row `s` of the interpolated gate. -/
def gRow (gate : FVec F S1x128 .f32) (wr : FVec F S4x512 .f32) (s : Fin 32) : FVec F S1x512 .f32 :=
  shapeCast S1x512 (matmul dot_S1x4_S4x512_S1x512_1_0_0_1_n_n none (extractStridedSlice S1x4 ![0, 4 * s.val] gate (gate_slices s)) wr
    (constant S1x512 .f32 0x00000000#32)) shapeCasts_S1x512_S1x512

/-- Token row `s` of chunk `j` of the result. -/
def outRow (dsc : FVec F S256x128 .f32) (wr : FVec F S4x512 .f32) (j : Fin 4) (s : Fin 32) (x : FVec F S1x64x1x512 .f32)
    (g : FVec F S1x512 .f32) : FVec F S1x64x1x512 .f32 :=
  shapeCast S1x64x1x512 (addf (mulf (shapeCast S64x512 x shapeCasts_S1x64x1x512_S64x512) (broadcastTo S64x512 g broadcasts_S1x512_S64x512))
    (matmul dot_S64x4_S4x512_S64x512_1_0_0_1_n_n none (extractStridedSlice S64x4 ![64 * j.val, 4 * s.val] dsc (dsc_slices j s)) wr
      (constant S64x512 .f32 0x00000000#32))) shapeCasts_S64x512_S1x64x1x512

abbrev ld2 {c : Dev nD} (M2 : Memref sig .tc .vmem S256x256 .f32) (f2 : Bf c M2 (F := F)) : FVec F S256x256 .f32 :=
  View.readAt (Elt F) M2.view (Rect.unit (s := S256x256) ![0, 0] S256x256.size inb_S256x256_S256x256_0_0).toLoadRect f2
abbrev ld3 {c : Dev nD} (M3 : Memref sig .tc .vmem S512x4 .f32) (f3 : Bf c M3 (F := F)) : FVec F S512x4 .f32 :=
  View.readAt (Elt F) M3.view (Rect.unit (s := S512x4) ![0, 0] S512x4.size inb_S512x4_S512x4_0_0).toLoadRect f3
abbrev ld4 {c : Dev nD} (M4 : Memref sig .tc .vmem S4x512 .f32) (f4 : Bf c M4 (F := F)) : FVec F S4x512 .f32 :=
  View.readAt (Elt F) M4.view (Rect.unit (s := S4x512) ![0, 0] S4x512.size inb_S4x512_S4x512_0_0).toLoadRect f4
abbrev ld5 {c : Dev nD} (M5 : Memref sig .tc .vmem S256x1 .f32) (f5 : Bf c M5 (F := F)) : FVec F S256x1 .f32 :=
  View.readAt (Elt F) M5.view (Rect.unit (s := S256x1) ![0, 0] S256x1.size inb_S256x1_S256x1_0_0).toLoadRect f5
abbrev ld6 {c : Dev nD} (M6 : Memref sig .tc .smem S1x1 .f32) (f6 : Bf c M6 (F := F)) : F .f32 :=
  View.readAt (Elt F) M6.view (Rect.unit (s := S1x1) ![0, 0] S1x1.size inb_S1x1_S1x1_0_0).toLoadRect f6 (Shape.Idx.first (by decide))

/-- The token stores, newest first. -/
def tokPieces (i : grid0.Coords) (px : S256x32x512.Idx → Elt F .f32) (pool : FVec F S512x4 .f32) : List (View.Piece (Elt F) S256x128 .f32) :=
  View.tilePieces (s := S256x128) S256x4.size (fun s : Fin 32 => ![0, 4 * s.val]) tokOff_inb (fun s => k0_pay2 (poolLoad i px s) pool) 32 (Nat.le_refl 32)
/-- The tokens as the kernel reads them back. -/
def tokRead (i : grid0.Coords) (px : S256x32x512.Idx → Elt F .f32) (pool : FVec F S512x4 .f32) : FVec F S256x128 .f32 :=
  tM.view.readCov (tokPieces i px pool) (Rect.unit (s := S256x128) ![0, 0] S256x128.size inb_S256x128_S256x128_0_0).toLoadRect
/-- The gate-row stores, newest first. -/
def gPieces (gate : FVec F S1x128 .f32) (wr : FVec F S4x512 .f32) : List (View.Piece (Elt F) S32x512 .f32) :=
  View.tilePieces (s := S32x512) S1x512.size (fun s : Fin 32 => ![s.val, 0]) gOff_inb (fun s => gRow gate wr s) 32 (Nat.le_refl 32)
/-- Gate row `s` as the kernel reads it back. -/
def gRead (gate : FVec F S1x128 .f32) (wr : FVec F S4x512 .f32) (s : Fin 32) : FVec F S1x512 .f32 :=
  gM.view.readCov (gPieces gate wr) (Rect.unit (s := S32x512) ![s.val, 0] S1x512.size (gOff_inb s)).toLoadRect
/-- The stores of chunk `j`, newest first. -/
def outPieces (i : grid0.Coords) (px : S256x32x512.Idx → Elt F .f32) (dsc : FVec F S256x128 .f32) (gate : FVec F S1x128 .f32)
    (wr : FVec F S4x512 .f32) (j : Fin 4) : List (View.Piece (Elt F) S4x64x32x512 .f32) :=
  View.tilePieces (s := S4x64x32x512) S1x64x1x512.size (fun s : Fin 32 => ![j.val, 0, s.val, 0]) (stOff_inb j)
    (fun s => outRow dsc wr j s (rowLoad i px j s) (gRead gate wr s)) 32 (Nat.le_refl 32)

section Run
variable (c : Dev nD) (i : grid0.Coords) (M2 : Memref sig .tc .vmem S256x256 .f32) (M3 : Memref sig .tc .vmem S512x4 .f32)
  (M4 : Memref sig .tc .vmem S4x512 .f32) (M5 : Memref sig .tc .vmem S256x1 .f32) (M6 : Memref sig .tc .smem S1x1 .f32)
  (px : S256x32x512.Idx → Elt F .f32) (f2 : Bf c M2 (F := F)) (f3 : Bf c M3 (F := F)) (f4 : Bf c M4 (F := F)) (f5 : Bf c M5 (F := F)) (f6 : Bf c M6 (F := F))

theorem tok_run : midRun.sl.v272 c i M3 px f3 = tokRead i px (ld3 M3 f3) := rfl
theorem gate_run : midRun.sl.r_10 c i M2 M3 M6 px f2 f3 f6 = gateOf (midRun.sl.v272 c i M3 px f3) (ld2 M2 f2) (ld6 M6 f6) := rfl
theorem dsc_run : midRun.sl.r_12 c i M2 M3 M5 px f2 f3 f5 = dscOf (midRun.sl.v272 c i M3 px f3) (ld2 M2 f2) (ld5 M5 f5) := rfl
theorem gPieces_run : midRun.sl.Hg_32 c i M2 M3 M4 M6 px f2 f3 f4 f6 = gPieces (midRun.sl.r_10 c i M2 M3 M6 px f2 f3 f6) (ld4 M4 f4) := rfl
theorem stores0_run (y : Bf c (yslot 0) (F := F)) : midRun.sl.HY0_src_w32 c i M2 M3 M4 M5 M6 px f2 f3 f4 f5 f6 y
    = yM.view.writes (Elt F) y (outPieces i px (midRun.sl.r_12 c i M2 M3 M5 px f2 f3 f5) (midRun.sl.r_10 c i M2 M3 M6 px f2 f3 f6) (ld4 M4 f4) 0) := rfl
theorem stores1_run (y : Bf c (yslot 1) (F := F)) : midRun.sl.HY1_src_w64 c i M2 M3 M4 M5 M6 px f2 f3 f4 f5 f6 y
    = yM.view.writes (Elt F) y (outPieces i px (midRun.sl.r_12 c i M2 M3 M5 px f2 f3 f5) (midRun.sl.r_10 c i M2 M3 M6 px f2 f3 f6) (ld4 M4 f4) 1) := rfl
theorem stores2_run (y : Bf c (yslot 2) (F := F)) : midRun.sl.HY2_src_w96 c i M2 M3 M4 M5 M6 px f2 f3 f4 f5 f6 y
    = yM.view.writes (Elt F) y (outPieces i px (midRun.sl.r_12 c i M2 M3 M5 px f2 f3 f5) (midRun.sl.r_10 c i M2 M3 M6 px f2 f3 f6) (ld4 M4 f4) 2) := rfl
theorem stores3_run (y : Bf c (yslot 3) (F := F)) : midRun.sl.HY3_src_w128 c i M2 M3 M4 M5 M6 px f2 f3 f4 f5 f6 y
    = yM.view.writes (Elt F) y (outPieces i px (midRun.sl.r_12 c i M2 M3 M5 px f2 f3 f5) (midRun.sl.r_10 c i M2 M3 M6 px f2 f3 f6) (ld4 M4 f4) 3) := rfl
end Run

/-! ## The stores read back -/

open Idealize.ShloMosaic.ValueIdx (ix1 ix2 ix3 ix4)

theorem xslot_read (s : Fin 2) (f : xM.view.ty.Contents (Elt F)) (z : S256x32x512.Idx) :
    (xslot s).view.read (Elt F) f z = xM.view.read (Elt F) f (ix4 (⟨s.val, s.isLt⟩ : Fin 2) (z 0) (z 1) (z 2)) := by
  have h1 : (xslot s).view.read (Elt F) f z
      = xM.view.read (Elt F) f ((Rect.unit (s := S2x256x32x512) (xsOff s) S1x256x32x512.size (xsOff_inb s)).emb (Shape.reshapeEquiv squeezes_S1x256x32x512_S256x32x512.numel_eq z)) := rfl
  rw [h1, Shape.reshapeEquiv_cons_one]
  congr 1
  funext a
  apply Fin.ext
  rw [Rect.emb_apply]
  match a with
  | ⟨0, _⟩ => rfl
  | ⟨1, _⟩ => show 0 + 1 * (z 0).val = (z 0).val; omega
  | ⟨2, _⟩ => show 0 + 1 * (z 1).val = (z 1).val; omega
  | ⟨3, _⟩ => show 0 + 1 * (z 2).val = (z 2).val; omega

theorem yslot_read (s : Fin 4) (f : yM.view.ty.Contents (Elt F)) (z : S64x32x512.Idx) :
    (yslot s).view.read (Elt F) f z = yM.view.read (Elt F) f (ix4 (⟨s.val, s.isLt⟩ : Fin 4) (z 0) (z 1) (z 2)) := by
  have h1 : (yslot s).view.read (Elt F) f z
      = yM.view.read (Elt F) f ((Rect.unit (s := S4x64x32x512) (ysOff s) S1x64x32x512.size (ysOff_inb s)).emb (Shape.reshapeEquiv squeezes_S1x64x32x512_S64x32x512.numel_eq z)) := rfl
  rw [h1, Shape.reshapeEquiv_cons_one]
  congr 1
  funext a
  apply Fin.ext
  rw [Rect.emb_apply]
  match a with
  | ⟨0, _⟩ => rfl
  | ⟨1, _⟩ => show 0 + 1 * (z 0).val = (z 0).val; omega
  | ⟨2, _⟩ => show 0 + 1 * (z 1).val = (z 1).val; omega
  | ⟨3, _⟩ => show 0 + 1 * (z 2).val = (z 2).val; omega

theorem xin_read (i : grid0.Coords) (px : S256x32x512.Idx → Elt F .f32) (w : S2x256x32x512.Idx) (z : S256x32x512.Idx)
    (h : ∀ a, (w a).val = (ix4 (⟨(Ring.sl 2 (pn i)).val, (Ring.sl 2 (pn i)).isLt⟩ : Fin 2) (z 0) (z 1) (z 2) a).val) :
    xM.view.read (Elt F) (xin i px) w = px z := by
  have hw : w = ix4 (⟨(Ring.sl 2 (pn i)).val, (Ring.sl 2 (pn i)).isLt⟩ : Fin 2) (z 0) (z 1) (z 2) := funext fun a => Fin.ext (h a)
  rw [hw]
  exact (xslot_read (Ring.sl 2 (pn i)) (xin i px) z).symm.trans (congrFun (View.read_writes_whole _ _ px) z)

theorem poolLoad_apply (i : grid0.Coords) (px : S256x32x512.Idx → Elt F .f32) (s : Fin 32) (k : S1x256x1x512.Idx) :
    poolLoad i px s k = px (ix3 (k 1 : Fin 256) s (k 3 : Fin 512)) := by
  refine xin_read i px _ _ fun a => ?_
  have h1 : (k 0).val < 1 := (k 0).isLt
  have h2 : (k 2).val < 1 := (k 2).isLt
  have hs := slotWord_eq i
  match a with
  | ⟨0, _⟩ => show slotWord i + 1 * (k 0).val = (Ring.sl 2 (pn i)).val; omega
  | ⟨1, _⟩ => show 0 + 1 * (k 1).val = (k 1).val; omega
  | ⟨2, _⟩ => show s.val + 1 * (k 2).val = s.val; omega
  | ⟨3, _⟩ => show 0 + 1 * (k 3).val = (k 3).val; omega

/-- Row `a` of chunk `j`. -/
abbrev chRow (j : Fin 4) (a : Fin 64) : Fin 256 := ⟨64 * j.val + a.val, by have := j.isLt; have := a.isLt; omega⟩

theorem rowLoad_apply (i : grid0.Coords) (px : S256x32x512.Idx → Elt F .f32) (j : Fin 4) (s : Fin 32) (k : S1x64x1x512.Idx) :
    rowLoad i px j s k = px (ix3 (chRow j (k 1)) s (k 3 : Fin 512)) := by
  refine xin_read i px _ _ fun a => ?_
  have h1 : (k 0).val < 1 := (k 0).isLt
  have h2 : (k 2).val < 1 := (k 2).isLt
  have hs := slotWord_eq i
  match a with
  | ⟨0, _⟩ => show slotWord i + 1 * (k 0).val = (Ring.sl 2 (pn i)).val; omega
  | ⟨1, _⟩ => show 64 * j.val + 1 * (k 1).val = 64 * j.val + (k 1).val; omega
  | ⟨2, _⟩ => show s.val + 1 * (k 2).val = s.val; omega
  | ⟨3, _⟩ => show 0 + 1 * (k 3).val = (k 3).val; omega

/-- The tokens of a block: pooled row by row of 512 columns. -/
def tokens (px : S256x32x512.Idx → Elt F .f32) (pool : FVec F S512x4 .f32) : FVec F S256x128 .f32 := fun k =>
  k0_pay2 (fun y => px (ix3 (y 1 : Fin 256) (⟨(k 1).val / 4, by have : (k 1).val < 128 := (k 1).isLt; omega⟩ : Fin 32) (y 3 : Fin 512))) pool
    (ix2 (k 0 : Fin 256) (⟨(k 1).val % 4, Nat.mod_lt _ (by decide)⟩ : Fin 4))

theorem tokRead_eq (i : grid0.Coords) (px : S256x32x512.Idx → Elt F .f32) (pool : FVec F S512x4 .f32) :
    tokRead i px pool = tokens px pool := by
  funext k
  have hk : (k 1).val < 128 := (k 1).isLt
  have hk0 : (k 0).val < 256 := (k 0).isLt
  have := View.read_tilePieces tM.view (tM.view.junk (Val := Elt F)) S256x4.size (fun s : Fin 32 => ![0, 4 * s.val]) tokOff_inb (fun s => k0_pay2 (poolLoad i px s) pool) 32 (Nat.le_refl 32)
    ((Rect.unit (s := S256x128) ![0, 0] S256x128.size inb_S256x128_S256x128_0_0).toLoadRect.idx k) ⟨(k 1).val / 4, by omega⟩ (by show (k 1).val / 4 < 32; omega)
    (ix2 (k 0 : Fin 256) (⟨(k 1).val % 4, Nat.mod_lt _ (by decide)⟩ : Fin 4))
    (fun a => by
      match a with
      | ⟨0, _⟩ => show 0 + 1 * (k 0).val = 0 + (k 0).val; omega
      | ⟨1, _⟩ => show 0 + 1 * (k 1).val = 4 * ((k 1).val / 4) + (k 1).val % 4; omega)
    ⟨1, by decide⟩
    (fun i' hi' => by
      have h' : i'.val ≠ (k 1).val / 4 := fun h => hi' (Fin.ext h)
      show 0 + 1 * (k 1).val < 4 * i'.val ∨ 4 * i'.val + 4 ≤ 0 + 1 * (k 1).val
      omega)
  refine this.trans ?_
  show k0_pay2 (poolLoad i px _) pool _ = _
  unfold tokens
  congr 2
  funext y
  exact poolLoad_apply i px _ y

theorem gRead_eq (gate : FVec F S1x128 .f32) (wr : FVec F S4x512 .f32) (s : Fin 32) : gRead gate wr s = gRow gate wr s := by
  funext k
  have hk0 : (k 0).val < 1 := (k 0).isLt
  exact View.read_tilePieces gM.view (gM.view.junk (Val := Elt F)) S1x512.size (fun s : Fin 32 => ![s.val, 0]) gOff_inb (fun s => gRow gate wr s) 32 (Nat.le_refl 32)
    ((Rect.unit (s := S32x512) ![s.val, 0] S1x512.size (gOff_inb s)).toLoadRect.idx k) s s.isLt k
    (fun a => by
      match a with
      | ⟨0, _⟩ => show s.val + 1 * (k 0).val = s.val + (k 0).val; omega
      | ⟨1, _⟩ => show 0 + 1 * (k 1).val = 0 + (k 1).val; omega)
    ⟨0, by decide⟩
    (fun i' hi' => by
      have h' : i'.val ≠ s.val := fun h => hi' (Fin.ext h)
      show s.val + 1 * (k 0).val < i'.val ∨ i'.val + 1 ≤ s.val + 1 * (k 0).val
      omega)

/-- Chunk `j` of the result of a block. -/
def chunkOf (px : S256x32x512.Idx → Elt F .f32) (dsc : FVec F S256x128 .f32) (gate : FVec F S1x128 .f32) (wr : FVec F S4x512 .f32) (j : Fin 4) :
    S64x32x512.Idx → Elt F .f32 := fun z =>
  outRow dsc wr j (z 1) (fun k => px (ix3 (chRow j (k 1)) (z 1 : Fin 32) (k 3 : Fin 512))) (gRow gate wr (z 1)) (ix4 (0 : Fin 1) (z 0 : Fin 64) (0 : Fin 1) (z 2 : Fin 512))

theorem out_read (i : grid0.Coords) (px : S256x32x512.Idx → Elt F .f32) (dsc : FVec F S256x128 .f32) (gate : FVec F S1x128 .f32)
    (wr : FVec F S4x512 .f32) (j : Fin 4) (y : yM.view.ty.Contents (Elt F)) :
    (yslot j).view.read (Elt F) (yM.view.writes (Elt F) y (outPieces i px dsc gate wr j)) = chunkOf px dsc gate wr j := by
  funext z
  rw [yslot_read]
  have h0 : (z 0).val < 64 := (z 0).isLt
  have h1 : (z 1).val < 32 := (z 1).isLt
  have := View.read_tilePieces yM.view y S1x64x1x512.size (fun s : Fin 32 => ![j.val, 0, s.val, 0]) (stOff_inb j)
    (fun s => outRow dsc wr j s (rowLoad i px j s) (gRead gate wr s)) 32 (Nat.le_refl 32)
    (ix4 (⟨j.val, j.isLt⟩ : Fin 4) (z 0) (z 1) (z 2)) (z 1) (z 1).isLt (ix4 (0 : Fin 1) (z 0 : Fin 64) (0 : Fin 1) (z 2 : Fin 512))
    (fun a => by
      match a with
      | ⟨0, _⟩ => rfl
      | ⟨1, _⟩ => show (z 0).val = 0 + (z 0).val; omega
      | ⟨2, _⟩ => rfl
      | ⟨3, _⟩ => show (z 2).val = 0 + (z 2).val; omega)
    ⟨2, by decide⟩
    (fun i' hi' => by
      have h' : i'.val ≠ (z 1).val := fun h => hi' (Fin.ext h)
      show (z 1).val < i'.val ∨ i'.val + 1 ≤ (z 1).val
      omega)
  exact this.trans (congrFun (congrArg₂ (outRow dsc wr j (z 1)) (funext (rowLoad_apply i px j (z 1))) (gRead_eq gate wr (z 1))) _)

/-- What a grid point writes to chunk `j` of its block of the result. -/
def outChunk (px : S256x32x512.Idx → Elt F .f32) (mt : FVec F S256x256 .f32) (pool : FVec F S512x4 .f32) (wr : FVec F S4x512 .f32)
    (rs : FVec F S256x1 .f32) (gs : F .f32) (j : Fin 4) : S64x32x512.Idx → Elt F .f32 :=
  chunkOf px (dscOf (tokens px pool) mt rs) (gateOf (tokens px pool) mt gs) wr j

section Run
variable (c : Dev nD) (i : grid0.Coords) (M2 : Memref sig .tc .vmem S256x256 .f32) (M3 : Memref sig .tc .vmem S512x4 .f32)
  (M4 : Memref sig .tc .vmem S4x512 .f32) (M5 : Memref sig .tc .vmem S256x1 .f32) (M6 : Memref sig .tc .smem S1x1 .f32)
  (px : S256x32x512.Idx → Elt F .f32) (f2 : Bf c M2 (F := F)) (f3 : Bf c M3 (F := F)) (f4 : Bf c M4 (F := F)) (f5 : Bf c M5 (F := F)) (f6 : Bf c M6 (F := F))

abbrev outRun (j : Fin 4) : S64x32x512.Idx → Elt F .f32 := outChunk px (ld2 M2 f2) (ld3 M3 f3) (ld4 M4 f4) (ld5 M5 f5) (ld6 M6 f6) j

theorem chunk0_run (y : Bf c (yslot 0) (F := F)) :
    midRun.sl.dma388 c i M2 M3 M4 M5 M6 px f2 f3 f4 f5 f6 y = outRun c M2 M3 M4 M5 M6 px f2 f3 f4 f5 f6 0 := by
  refine (congrArg (fun w => ReadAs.same.apply ((yslot 0).view.read (Elt F) w)) (stores0_run c i M2 M3 M4 M5 M6 px f2 f3 f4 f5 f6 y)).trans ?_
  refine (congrArg ReadAs.same.apply (out_read i px _ _ _ 0 y)).trans ?_
  rw [gate_run, dsc_run, tok_run, tokRead_eq]
  rfl

theorem chunk1_run (y : Bf c (yslot 1) (F := F)) :
    midRun.sl.dma548 c i M2 M3 M4 M5 M6 px f2 f3 f4 f5 f6 y = outRun c M2 M3 M4 M5 M6 px f2 f3 f4 f5 f6 1 := by
  refine (congrArg (fun w => ReadAs.same.apply ((yslot 1).view.read (Elt F) w)) (stores1_run c i M2 M3 M4 M5 M6 px f2 f3 f4 f5 f6 y)).trans ?_
  refine (congrArg ReadAs.same.apply (out_read i px _ _ _ 1 y)).trans ?_
  rw [gate_run, dsc_run, tok_run, tokRead_eq]
  rfl

theorem chunk2_run (y : Bf c (yslot 2) (F := F)) :
    midRun.sl.dma708 c i M2 M3 M4 M5 M6 px f2 f3 f4 f5 f6 y = outRun c M2 M3 M4 M5 M6 px f2 f3 f4 f5 f6 2 := by
  refine (congrArg (fun w => ReadAs.same.apply ((yslot 2).view.read (Elt F) w)) (stores2_run c i M2 M3 M4 M5 M6 px f2 f3 f4 f5 f6 y)).trans ?_
  refine (congrArg ReadAs.same.apply (out_read i px _ _ _ 2 y)).trans ?_
  rw [gate_run, dsc_run, tok_run, tokRead_eq]
  rfl

theorem chunk3_run (y : Bf c (yslot 3) (F := F)) :
    midRun.sl.dma868 c i M2 M3 M4 M5 M6 px f2 f3 f4 f5 f6 y = outRun c M2 M3 M4 M5 M6 px f2 f3 f4 f5 f6 3 := by
  refine (congrArg (fun w => ReadAs.same.apply ((yslot 3).view.read (Elt F) w)) (stores3_run c i M2 M3 M4 M5 M6 px f2 f3 f4 f5 f6 y)).trans ?_
  refine (congrArg ReadAs.same.apply (out_read i px _ _ _ 3 y)).trans ?_
  rw [gate_run, dsc_run, tok_run, tokRead_eq]
  rfl
end Run

end Cert.Proof.Ideal
end
-- ==== Proof.Ideal.Steps.lean ====
/-
  One grid point's run, the words it computes named: what the first, a middle and the last point take and give back.
-/
module

public import proofs.«01_k».proof.Proof.Ideal.Values
public import proofs.«01_k».proof.Proof.Ideal.First
public import proofs.«01_k».proof.Proof.Ideal.Last

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Steps
variable (c : Dev nD)

/-- The four chunks of block `q` held, chunk `j` at `h j`. -/
def quadAt (q : Fin 8) (h : (j : Fin 4) → Bf (F := F) c (oblk q j)) : sProp 𝕄 :=
  iprop(pv c (oblk q 0) (h 0) ∗ pv c (oblk q 1) (h 1) ∗ pv c (oblk q 2) (h 2) ∗ pv c (oblk q 3) (h 3))
/-- The four chunks of block `q` on their way, chunk `j` to arrive as `h j`. -/
def flyAt (q : Fin 8) (h : (j : Fin 4) → Bf (F := F) c (oblk q j)) : sProp 𝕄 :=
  iprop((∃ y, yfly c 0 q (h 0) y) ∗ (∃ y, yfly c 1 q (h 1) y) ∗ (∃ y, yfly c 2 q (h 2) y) ∗ (∃ y, yfly c 3 q (h 3) y))
/-- The four output slots idle. -/
def freeY : sProp 𝕄 :=
  iprop(((∃ f, pv (F := F) c (yslot 0) f) ∗ ycell c 0) ∗ ((∃ f, pv (F := F) c (yslot 1) f) ∗ ycell c 1)
    ∗ ((∃ f, pv (F := F) c (yslot 2) f) ∗ ycell c 2) ∗ ((∃ f, pv (F := F) c (yslot 3) f) ∗ ycell c 3))
/-- Input slot `s` idle. -/
def freeX (s : Fin 2) : sProp 𝕄 := iprop(xcell c s ∗ ∃ f, pv (F := F) c (xslot s) f)
/-- Block `q` on its way into slot `s`. -/
def flyX (XA : Bf (F := F) c aM) (s : Fin 2) (q : Fin 8) : sProp 𝕄 := iprop(∃ f, xfly c XA s q (xland c s (xpay c XA q) f))
/-- The tokens' and the gates' buffers, and the core's open waits. -/
def tgo : sProp 𝕄 := iprop((∃ f, pt (F := F) c tM f) ∗ (∃ f, pt (F := F) c gM f) ∗ ∃ W, owes (c : Thread nD τ) 0 W)

variable (M2 : Memref sig .tc .vmem S256x256 .f32) (w2 : M2.IsWhole) (M3 : Memref sig .tc .vmem S512x4 .f32) (w3 : M3.IsWhole)
  (M4 : Memref sig .tc .vmem S4x512 .f32) (w4 : M4.IsWhole) (M5 : Memref sig .tc .vmem S256x1 .f32) (w5 : M5.IsWhole)
  (M6 : Memref sig .tc .smem S1x1 .f32) (w6 : M6.IsWhole) (XA : Bf (F := F) c aM)
  (f2 : Bf (F := F) c M2) (f3 : Bf (F := F) c M3) (f4 : Bf (F := F) c M4) (f5 : Bf (F := F) c M5) (f6 : Bf (F := F) c M6)
  (O : Bf (F := F) c oM)

/-- The five operands as staged. -/
def opsAt : sProp 𝕄 := iprop(pt c M2 f2 ∗ pt c M3 f3 ∗ pt c M4 f4 ∗ pt c M5 f5 ∗ pt c M6 f6)
/-- The output array with block `q`'s chunk `j` arrived. -/
def arrived (q : Fin 8) (j : Fin 4) : Bf (F := F) c (oblk q j) :=
  yland c j q (outRun c M2 M3 M4 M5 M6 (xpay c XA q) f2 f3 f4 f5 f6 j) O
/-- A chunk on its way, its slot's words forgotten. -/
theorem arrive (q : Fin 8) (j : Fin 4) (y : Bf (F := F) c (yslot j)) :
    yfly c j q (yland c j q (outRun c M2 M3 M4 M5 M6 (xpay c XA q) f2 f3 f4 f5 f6 j) O) y
      ⊢ (iprop(∃ y, yfly c j q (arrived c M2 M3 M4 M5 M6 XA f2 f3 f4 f5 f6 O q j) y) : sProp 𝕄) := by
  unfold arrived; iintro H; iexists y; iexact H
/-- The kernel at a point. -/
abbrev bodyAt (i : grid0.Coords) :=
  cc0__fused_kernel (F := F) i aM (Memref.isWhole_whole _) M2 w2 M3 w3 M4 w4 M5 w5 M6 w6 oM (Memref.isWhole_whole _) xM (Memref.isWhole_whole _)
    yM (Memref.isWhole_whole _) tM (Memref.isWhole_whole _) gM (Memref.isWhole_whole _) cc0_scratch4 cc0_scratch5

theorem midStep (i : grid0.Coords) (q : Fin 8) (h : (j : Fin 4) → Bf (F := F) c (oblk q j))
    (h1 : ¬ Scalar.cmpi .ne (Scalar.extui (Scalar.cmpi .eq (BitVec.ofNat 32 (i 0).val) 0#32)) 0#32 = 1#1)
    (h2 : k0_cond2 i = 1#1) (h3 : k0_cond3 i = 1#1) (h4 : k0_cond4 i = 1#1) (h5 : k0_cond5 i = 1#1) (h6 : k0_cond6 i = 1#1)
    (h7 : ¬ k0_cond7 i = 1#1) (hn : pn i + 1 < 8) (Q : PUnit → sProp 𝕄) :
    iprop((opsAt c M2 M3 M4 M5 M6 f2 f3 f4 f5 f6 ∗ tgo (F := F) c ∗ flyX c XA (Ring.sl 2 (pn i)) (Ring.bk 8 (pn i)) ∗ freeX (F := F) c (Ring.sl 2 (pn i + 1))
        ∗ xhome c XA (Ring.bk 8 (pn i + 1)) ∗ flyAt c q h ∗ quadAt c (Ring.bk 8 (pn i)) (fun _ => O))
      ∗ (iprop(opsAt c M2 M3 M4 M5 M6 f2 f3 f4 f5 f6 ∗ tgo (F := F) c ∗ freeX (F := F) c (Ring.sl 2 (pn i)) ∗ xhome c XA (Ring.bk 8 (pn i))
          ∗ flyX c XA (Ring.sl 2 (pn i + 1)) (Ring.bk 8 (pn i + 1)) ∗ quadAt c q h
          ∗ flyAt c (Ring.bk 8 (pn i)) (arrived c M2 M3 M4 M5 M6 XA f2 f3 f4 f5 f6 O (Ring.bk 8 (pn i)))) -∗ Q ⟨⟩))
    ⊢ wp frame (wpE (defs₀ (F := F)) 𝒱₀ (c : Thread nD τ) none) Set.univ (bodyAt M2 w2 M3 w3 M4 w4 M5 w5 M6 w6 i) Q := by
  unfold opsAt tgo flyX freeX flyAt quadAt
  iintro ⟨⟨Hm, ⟨⟨%ft, Ht⟩, ⟨%fg, Hg⟩, HW⟩, ⟨%fx, HX⟩, ⟨HNc, ⟨%fn, HN⟩⟩, Hb, ⟨⟨%y0, HY0⟩, ⟨%y1, HY1⟩, ⟨%y2, HY2⟩, ⟨%y3, HY3⟩⟩, HO⟩, Hk⟩
  iapply ((midRun c i q h1 h2 h3 h4 h5 h6 h7 hn M2 w2 M3 w3 M4 w4 M5 w5 M6 w6 XA (xpay c XA (Ring.bk 8 (pn i))) f2 f3 f4 f5 f6).2
    fx fn ft fg y0 y1 y2 y3 (h 0) (h 1) (h 2) (h 3) O O O O Q)
  isplitl [Hm]; · iexact Hm
  isplitl [Ht]; · iexact Ht
  isplitl [Hg]; · iexact Hg
  isplitl [HW]; · iexact HW
  isplitl [HX]; · iexact HX
  isplitl [HN HNc Hb]
  · isplitl [HN]; · iexact HN
    isplitl [HNc]; · iexact HNc
    iexact Hb
  isplitl [HY0 HY1 HY2 HY3]
  · isplitl [HY0]; · iexact HY0
    isplitl [HY1]; · iexact HY1
    isplitl [HY2]; · iexact HY2
    iexact HY3
  isplitl [HO]; · iexact HO
  rw [show (midRun c i q h1 h2 h3 h4 h5 h6 h7 hn M2 w2 M3 w3 M4 w4 M5 w5 M6 w6 XA (xpay c XA (Ring.bk 8 (pn i))) f2 f3 f4 f5 f6).1.1.1 y0 = _
      from chunk0_run c i M2 M3 M4 M5 M6 (xpay c XA (Ring.bk 8 (pn i))) f2 f3 f4 f5 f6 y0,
    show (midRun c i q h1 h2 h3 h4 h5 h6 h7 hn M2 w2 M3 w3 M4 w4 M5 w5 M6 w6 XA (xpay c XA (Ring.bk 8 (pn i))) f2 f3 f4 f5 f6).1.1.2.1 y1 = _
      from chunk1_run c i M2 M3 M4 M5 M6 (xpay c XA (Ring.bk 8 (pn i))) f2 f3 f4 f5 f6 y1,
    show (midRun c i q h1 h2 h3 h4 h5 h6 h7 hn M2 w2 M3 w3 M4 w4 M5 w5 M6 w6 XA (xpay c XA (Ring.bk 8 (pn i))) f2 f3 f4 f5 f6).1.1.2.2.1 y2 = _
      from chunk2_run c i M2 M3 M4 M5 M6 (xpay c XA (Ring.bk 8 (pn i))) f2 f3 f4 f5 f6 y2,
    show (midRun c i q h1 h2 h3 h4 h5 h6 h7 hn M2 w2 M3 w3 M4 w4 M5 w5 M6 w6 XA (xpay c XA (Ring.bk 8 (pn i))) f2 f3 f4 f5 f6).1.1.2.2.2 y3 = _
      from chunk3_run c i M2 M3 M4 M5 M6 (xpay c XA (Ring.bk 8 (pn i))) f2 f3 f4 f5 f6 y3]
  iintro ⟨Hm, Ht, Hg, HW, ⟨HN, HNc, Hb⟩, HX, HP, ⟨HY0, HY1, HY2, HY3⟩⟩
  iapply Hk
  isplitl [Hm]; · iexact Hm
  isplitl [Ht Hg HW]
  · isplitl [Ht]; · iexact Ht
    isplitl [Hg]; · iexact Hg
    iexact HW
  isplitl [HN HNc]
  · isplitl [HNc]; · iexact HNc
    iexact HN
  isplitl [Hb]; · iexact Hb
  isplitl [HX]; · iexists _; iexact HX
  isplitl [HP]; · iexact HP
  isplitl [HY0]; · ihave H := (arrive c M2 M3 M4 M5 M6 XA f2 f3 f4 f5 f6 O (Ring.bk 8 (pn i)) 0 _) $$ HY0; iexact H
  isplitl [HY1]; · ihave H := (arrive c M2 M3 M4 M5 M6 XA f2 f3 f4 f5 f6 O (Ring.bk 8 (pn i)) 1 _) $$ HY1; iexact H
  isplitl [HY2]; · ihave H := (arrive c M2 M3 M4 M5 M6 XA f2 f3 f4 f5 f6 O (Ring.bk 8 (pn i)) 2 _) $$ HY2; iexact H
  ihave H := (arrive c M2 M3 M4 M5 M6 XA f2 f3 f4 f5 f6 O (Ring.bk 8 (pn i)) 3 _) $$ HY3; iexact H

theorem firstStep
    (h1 : Scalar.cmpi .ne (Scalar.extui (Scalar.cmpi .eq (BitVec.ofNat 32 (point0 0).val) 0#32)) 0#32 = 1#1)
    (h2 : k0_cond2 point0 = 1#1) (h3 : ¬ k0_cond3 point0 = 1#1) (h4 : ¬ k0_cond4 point0 = 1#1) (h5 : ¬ k0_cond5 point0 = 1#1)
    (h6 : ¬ k0_cond6 point0 = 1#1) (h7 : ¬ k0_cond7 point0 = 1#1) (Q : PUnit → sProp 𝕄) :
    iprop((opsAt c M2 M3 M4 M5 M6 f2 f3 f4 f5 f6 ∗ tgo (F := F) c ∗ (freeX (F := F) c (Ring.sl 2 (pn point0)) ∗ xhome c XA (Ring.bk 8 (pn point0)))
        ∗ freeX (F := F) c (Ring.sl 2 (pn point0 + 1)) ∗ xhome c XA (Ring.bk 8 (pn point0 + 1)) ∗ freeY (F := F) c ∗ quadAt c (Ring.bk 8 (pn point0)) (fun _ => O))
      ∗ (iprop(opsAt c M2 M3 M4 M5 M6 f2 f3 f4 f5 f6 ∗ tgo (F := F) c ∗ freeX (F := F) c (Ring.sl 2 (pn point0)) ∗ xhome c XA (Ring.bk 8 (pn point0))
          ∗ flyX c XA (Ring.sl 2 (pn point0 + 1)) (Ring.bk 8 (pn point0 + 1))
          ∗ flyAt c (Ring.bk 8 (pn point0)) (arrived c M2 M3 M4 M5 M6 XA f2 f3 f4 f5 f6 O (Ring.bk 8 (pn point0)))) -∗ Q ⟨⟩))
    ⊢ wp frame (wpE (defs₀ (F := F)) 𝒱₀ (c : Thread nD τ) none) Set.univ (bodyAt M2 w2 M3 w3 M4 w4 M5 w5 M6 w6 point0) Q := by
  unfold opsAt tgo flyX freeX flyAt freeY quadAt
  iintro ⟨⟨Hm, ⟨⟨%ft, Ht⟩, ⟨%fg, Hg⟩, HW⟩, ⟨⟨HXc, ⟨%fx, HX⟩⟩, Ha⟩, ⟨HNc, ⟨%fn, HN⟩⟩, Hb, ⟨⟨⟨%y0, HY0⟩, HC0⟩, ⟨⟨%y1, HY1⟩, HC1⟩, ⟨⟨%y2, HY2⟩, HC2⟩, ⟨⟨%y3, HY3⟩, HC3⟩⟩, HO⟩, Hk⟩
  iapply ((firstRun c h1 h2 h3 h4 h5 h6 h7 (by decide) M2 w2 M3 w3 M4 w4 M5 w5 M6 w6 XA f2 f3 f4 f5 f6).2
    fx fn ft fg y0 y1 y2 y3 O O O O Q)
  isplitl [Hm]; · iexact Hm
  isplitl [Ht]; · iexact Ht
  isplitl [Hg]; · iexact Hg
  isplitl [HW]; · iexact HW
  isplitl [HX HXc Ha]
  · isplitl [HX]; · iexact HX
    isplitl [HXc]; · iexact HXc
    iexact Ha
  isplitl [HN HNc Hb]
  · isplitl [HN]; · iexact HN
    isplitl [HNc]; · iexact HNc
    iexact Hb
  isplitl [HY0 HC0 HY1 HC1 HY2 HC2 HY3 HC3]
  · isplitl [HY0 HC0]; · isplitl [HY0] <;> iassumption
    isplitl [HY1 HC1]; · isplitl [HY1] <;> iassumption
    isplitl [HY2 HC2]; · isplitl [HY2] <;> iassumption
    isplitl [HY3] <;> iassumption
  isplitl [HO]; · iexact HO
  rw [show (firstRun c h1 h2 h3 h4 h5 h6 h7 (by decide) M2 w2 M3 w3 M4 w4 M5 w5 M6 w6 XA f2 f3 f4 f5 f6).1.1.1 y0 = _
      from chunk0_run c point0 M2 M3 M4 M5 M6 (xpay c XA (Ring.bk 8 (pn point0))) f2 f3 f4 f5 f6 y0,
    show (firstRun c h1 h2 h3 h4 h5 h6 h7 (by decide) M2 w2 M3 w3 M4 w4 M5 w5 M6 w6 XA f2 f3 f4 f5 f6).1.1.2.1 y1 = _
      from chunk1_run c point0 M2 M3 M4 M5 M6 (xpay c XA (Ring.bk 8 (pn point0))) f2 f3 f4 f5 f6 y1,
    show (firstRun c h1 h2 h3 h4 h5 h6 h7 (by decide) M2 w2 M3 w3 M4 w4 M5 w5 M6 w6 XA f2 f3 f4 f5 f6).1.1.2.2.1 y2 = _
      from chunk2_run c point0 M2 M3 M4 M5 M6 (xpay c XA (Ring.bk 8 (pn point0))) f2 f3 f4 f5 f6 y2,
    show (firstRun c h1 h2 h3 h4 h5 h6 h7 (by decide) M2 w2 M3 w3 M4 w4 M5 w5 M6 w6 XA f2 f3 f4 f5 f6).1.1.2.2.2 y3 = _
      from chunk3_run c point0 M2 M3 M4 M5 M6 (xpay c XA (Ring.bk 8 (pn point0))) f2 f3 f4 f5 f6 y3]
  iintro ⟨Hm, Ht, Hg, HW, ⟨HN, HNc, Hb⟩, HX, ⟨HY0, HY1, HY2, HY3⟩⟩
  iapply Hk
  isplitl [Hm]; · iexact Hm
  isplitl [Ht Hg HW]
  · isplitl [Ht]; · iexact Ht
    isplitl [Hg]; · iexact Hg
    iexact HW
  isplitl [HN HNc]
  · isplitl [HNc]; · iexact HNc
    iexact HN
  isplitl [Hb]; · iexact Hb
  isplitl [HX]; · iexists _; iexact HX
  isplitl [HY0]; · ihave H := (arrive c M2 M3 M4 M5 M6 XA f2 f3 f4 f5 f6 O (Ring.bk 8 (pn point0)) 0 _) $$ HY0; iexact H
  isplitl [HY1]; · ihave H := (arrive c M2 M3 M4 M5 M6 XA f2 f3 f4 f5 f6 O (Ring.bk 8 (pn point0)) 1 _) $$ HY1; iexact H
  isplitl [HY2]; · ihave H := (arrive c M2 M3 M4 M5 M6 XA f2 f3 f4 f5 f6 O (Ring.bk 8 (pn point0)) 2 _) $$ HY2; iexact H
  ihave H := (arrive c M2 M3 M4 M5 M6 XA f2 f3 f4 f5 f6 O (Ring.bk 8 (pn point0)) 3 _) $$ HY3; iexact H

theorem lastStep (i : grid0.Coords) (q : Fin 8) (h : (j : Fin 4) → Bf (F := F) c (oblk q j))
    (h1 : ¬ Scalar.cmpi .ne (Scalar.extui (Scalar.cmpi .eq (BitVec.ofNat 32 (i 0).val) 0#32)) 0#32 = 1#1)
    (h2 : ¬ k0_cond2 i = 1#1) (h3 : k0_cond3 i = 1#1) (h4 : k0_cond4 i = 1#1) (h5 : k0_cond5 i = 1#1) (h6 : k0_cond6 i = 1#1)
    (h7 : k0_cond7 i = 1#1) (Q : PUnit → sProp 𝕄) :
    iprop((opsAt c M2 M3 M4 M5 M6 f2 f3 f4 f5 f6 ∗ tgo (F := F) c ∗ flyX c XA (Ring.sl 2 (pn i)) (Ring.bk 8 (pn i))
        ∗ flyAt c q h ∗ quadAt c (Ring.bk 8 (pn i)) (fun _ => O))
      ∗ (iprop(opsAt c M2 M3 M4 M5 M6 f2 f3 f4 f5 f6 ∗ tgo (F := F) c ∗ freeX (F := F) c (Ring.sl 2 (pn i)) ∗ xhome c XA (Ring.bk 8 (pn i))
          ∗ quadAt c q h ∗ quadAt c (Ring.bk 8 (pn i)) (arrived c M2 M3 M4 M5 M6 XA f2 f3 f4 f5 f6 O (Ring.bk 8 (pn i))) ∗ freeY (F := F) c) -∗ Q ⟨⟩))
    ⊢ wp frame (wpE (defs₀ (F := F)) 𝒱₀ (c : Thread nD τ) none) Set.univ (bodyAt M2 w2 M3 w3 M4 w4 M5 w5 M6 w6 i) Q := by
  unfold opsAt tgo flyX freeX flyAt freeY quadAt
  iintro ⟨⟨Hm, ⟨⟨%ft, Ht⟩, ⟨%fg, Hg⟩, HW⟩, ⟨%fx, HX⟩, ⟨⟨%y0, HY0⟩, ⟨%y1, HY1⟩, ⟨%y2, HY2⟩, ⟨%y3, HY3⟩⟩, HO⟩, Hk⟩
  iapply ((lastRun c i q h1 h2 h3 h4 h5 h6 h7 M2 w2 M3 w3 M4 w4 M5 w5 M6 w6 XA (xpay c XA (Ring.bk 8 (pn i))) f2 f3 f4 f5 f6).2
    fx ft fg y0 y1 y2 y3 (h 0) (h 1) (h 2) (h 3) O O O O Q)
  isplitl [Hm]; · iexact Hm
  isplitl [Ht]; · iexact Ht
  isplitl [Hg]; · iexact Hg
  isplitl [HW]; · iexact HW
  isplitl [HX]; · iexact HX
  isplitl [HY0 HY1 HY2 HY3]
  · isplitl [HY0]; · iexact HY0
    isplitl [HY1]; · iexact HY1
    isplitl [HY2]; · iexact HY2
    iexact HY3
  isplitl [HO]; · iexact HO
  rw [show (lastRun c i q h1 h2 h3 h4 h5 h6 h7 M2 w2 M3 w3 M4 w4 M5 w5 M6 w6 XA (xpay c XA (Ring.bk 8 (pn i))) f2 f3 f4 f5 f6).1.1 y0 = _
      from chunk0_run c i M2 M3 M4 M5 M6 (xpay c XA (Ring.bk 8 (pn i))) f2 f3 f4 f5 f6 y0,
    show (lastRun c i q h1 h2 h3 h4 h5 h6 h7 M2 w2 M3 w3 M4 w4 M5 w5 M6 w6 XA (xpay c XA (Ring.bk 8 (pn i))) f2 f3 f4 f5 f6).1.2.1 y1 = _
      from chunk1_run c i M2 M3 M4 M5 M6 (xpay c XA (Ring.bk 8 (pn i))) f2 f3 f4 f5 f6 y1,
    show (lastRun c i q h1 h2 h3 h4 h5 h6 h7 M2 w2 M3 w3 M4 w4 M5 w5 M6 w6 XA (xpay c XA (Ring.bk 8 (pn i))) f2 f3 f4 f5 f6).1.2.2.1 y2 = _
      from chunk2_run c i M2 M3 M4 M5 M6 (xpay c XA (Ring.bk 8 (pn i))) f2 f3 f4 f5 f6 y2,
    show (lastRun c i q h1 h2 h3 h4 h5 h6 h7 M2 w2 M3 w3 M4 w4 M5 w5 M6 w6 XA (xpay c XA (Ring.bk 8 (pn i))) f2 f3 f4 f5 f6).1.2.2.2 y3 = _
      from chunk3_run c i M2 M3 M4 M5 M6 (xpay c XA (Ring.bk 8 (pn i))) f2 f3 f4 f5 f6 y3]
  iintro ⟨Hm, Ht, Hg, HW, ⟨HN, HNc, Hb⟩, HP, ⟨HO, HY⟩⟩
  iapply Hk
  isplitl [Hm]; · iexact Hm
  isplitl [Ht Hg HW]
  · isplitl [Ht]; · iexact Ht
    isplitl [Hg]; · iexact Hg
    iexact HW
  isplitl [HN HNc]
  · isplitl [HNc]; · iexact HNc
    iexact HN
  isplitl [Hb]; · iexact Hb
  isplitl [HP]; · iexact HP
  isplitl [HO]; · unfold arrived; iexact HO
  iexact HY

end Steps

end Cert.Proof.Ideal

end
-- ==== Proof.Ideal.Splits.lean ====
/-
  The arrays and the slots' buffers, split into the blocks, chunks and slots the transfers move.
-/
module

public import proofs.«01_k».proof.Proof.Ideal.Steps

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Element sets -/

abbrev XB (b : Fin 8) : Finset S8x256x32x512.Idx := (Rect.unit (s := S8x256x32x512) (xbOff b) S1x256x32x512.size (xbOff_inb b)).set
abbrev OB (b : Fin 8) (i : Fin 4) : Finset S8x256x32x512.Idx := (Rect.unit (s := S8x256x32x512) (obOff b i) S1x64x32x512.size (obOff_inb b i)).set
abbrev XS (s : Fin 2) : Finset S2x256x32x512.Idx := (Rect.unit (s := S2x256x32x512) (xsOff s) S1x256x32x512.size (xsOff_inb s)).set
abbrev YS (s : Fin 4) : Finset S4x64x32x512.Idx := (Rect.unit (s := S4x64x32x512) (ysOff s) S1x64x32x512.size (ysOff_inb s)).set

theorem xblk_set (b : Fin 8) : (xblk b).view.set = XB b := (View.set_reshape _ _).trans (View.set_slice_whole _ _)
theorem oblk_set (b : Fin 8) (i : Fin 4) : (oblk b i).view.set = OB b i := (View.set_reshape _ _).trans (View.set_slice_whole _ _)
theorem xslot_set (s : Fin 2) : (xslot s).view.set = XS s := (View.set_reshape _ _).trans (View.set_slice_whole _ _)
theorem yslot_set (s : Fin 4) : (yslot s).view.set = YS s := (View.set_reshape _ _).trans (View.set_slice_whole _ _)

theorem mem_XB (b : Fin 8) (y : S8x256x32x512.Idx) : y ∈ XB b ↔ (y 0).val = b.val := by
  rw [Rect.mem_set_unit]
  have h1 : (y 1).val < 256 := (y 1).isLt
  have h2 : (y 2).val < 32 := (y 2).isLt
  have h3 : (y 3).val < 512 := (y 3).isLt
  constructor
  · intro H; have a0 : b.val ≤ (y 0).val ∧ (y 0).val < b.val + 1 := H 0; omega
  · intro H i; fin_cases i
    · show b.val ≤ (y 0).val ∧ (y 0).val < b.val + 1; omega
    · show 0 ≤ (y 1).val ∧ (y 1).val < 0 + 256; omega
    · show 0 ≤ (y 2).val ∧ (y 2).val < 0 + 32; omega
    · show 0 ≤ (y 3).val ∧ (y 3).val < 0 + 512; omega
theorem mem_OB (b : Fin 8) (k : Fin 4) (y : S8x256x32x512.Idx) : y ∈ OB b k ↔ (y 0).val = b.val ∧ (y 1).val / 64 = k.val := by
  rw [Rect.mem_set_unit]
  have h2 : (y 2).val < 32 := (y 2).isLt
  have h3 : (y 3).val < 512 := (y 3).isLt
  constructor
  · intro H
    have a0 : b.val ≤ (y 0).val ∧ (y 0).val < b.val + 1 := H 0
    have a1 : 64 * k.val ≤ (y 1).val ∧ (y 1).val < 64 * k.val + 64 := H 1
    omega
  · intro H i; fin_cases i
    · show b.val ≤ (y 0).val ∧ (y 0).val < b.val + 1; omega
    · show 64 * k.val ≤ (y 1).val ∧ (y 1).val < 64 * k.val + 64; omega
    · show 0 ≤ (y 2).val ∧ (y 2).val < 0 + 32; omega
    · show 0 ≤ (y 3).val ∧ (y 3).val < 0 + 512; omega
theorem mem_XS (s : Fin 2) (y : S2x256x32x512.Idx) : y ∈ XS s ↔ (y 0).val = s.val := by
  rw [Rect.mem_set_unit]
  have h1 : (y 1).val < 256 := (y 1).isLt
  have h2 : (y 2).val < 32 := (y 2).isLt
  have h3 : (y 3).val < 512 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 256; omega
    · show 0 ≤ (y 2).val ∧ (y 2).val < 0 + 32; omega
    · show 0 ≤ (y 3).val ∧ (y 3).val < 0 + 512; omega
theorem mem_YS (s : Fin 4) (y : S4x64x32x512.Idx) : y ∈ YS s ↔ (y 0).val = s.val := by
  rw [Rect.mem_set_unit]
  have h1 : (y 1).val < 64 := (y 1).isLt
  have h2 : (y 2).val < 32 := (y 2).isLt
  have h3 : (y 3).val < 512 := (y 3).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 64; omega
    · show 0 ≤ (y 2).val ∧ (y 2).val < 0 + 32; omega
    · show 0 ≤ (y 3).val ∧ (y 3).val < 0 + 512; omega

theorem XB_disjoint : ∀ b b' : Fin 8, b ≠ b' → Disjoint (XB b) (XB b') := by
  intro b b' hne; rw [Finset.disjoint_left]; intro y hy hy'; rw [mem_XB] at hy hy'; exact hne (Fin.ext (hy.symm.trans hy'))
theorem XB_cover : (Finset.univ : Finset (Fin 8)).biUnion XB = Finset.univ := by
  ext y; simp only [Finset.mem_biUnion, Finset.mem_univ, true_and, iff_true]; exact ⟨(y 0).cast (by decide), by rw [mem_XB]; rfl⟩
theorem OB_disjoint (b : Fin 8) : ∀ i i' : Fin 4, i ≠ i' → Disjoint (OB b i) (OB b i') := by
  intro i i' hne; rw [Finset.disjoint_left]; intro y hy hy'; rw [mem_OB] at hy hy'; exact hne (Fin.ext (hy.2.symm.trans hy'.2))
theorem OB_cover (b : Fin 8) : (Finset.univ : Finset (Fin 4)).biUnion (OB b) = XB b := by
  ext y; simp only [Finset.mem_biUnion, Finset.mem_univ, true_and, mem_OB, mem_XB]
  have h1 : (y 1).val < 256 := (y 1).isLt
  exact ⟨fun ⟨_, h, _⟩ => h, fun h => ⟨⟨(y 1).val / 64, by omega⟩, h, rfl⟩⟩
theorem XS_disjoint : ∀ s s' : Fin 2, s ≠ s' → Disjoint (XS s) (XS s') := by
  intro s s' hne; rw [Finset.disjoint_left]; intro y hy hy'; rw [mem_XS] at hy hy'; exact hne (Fin.ext (hy.symm.trans hy'))
theorem XS_cover : (Finset.univ : Finset (Fin 2)).biUnion XS = Finset.univ := by
  ext y; simp only [Finset.mem_biUnion, Finset.mem_univ, true_and, iff_true]; exact ⟨(y 0).cast (by decide), by rw [mem_XS]; rfl⟩
theorem YS_disjoint : ∀ s s' : Fin 4, s ≠ s' → Disjoint (YS s) (YS s') := by
  intro s s' hne; rw [Finset.disjoint_left]; intro y hy hy'; rw [mem_YS] at hy hy'; exact hne (Fin.ext (hy.symm.trans hy'))
theorem YS_cover : (Finset.univ : Finset (Fin 4)).biUnion YS = Finset.univ := by
  ext y; simp only [Finset.mem_biUnion, Finset.mem_univ, true_and, iff_true]; exact ⟨(y 0).cast (by decide), by rw [mem_YS]; rfl⟩

/-! ## The buffers, whole and in pieces -/

section Split
variable (c : Dev nD)

theorem bigSep_two (Φ : Fin 2 → sProp 𝕄) : bigSep Finset.univ Φ = iprop(Φ 0 ∗ Φ 1) :=
  bigSep_univ_eq_bigSepL [(0 : Fin 2), (1 : Fin 2)] (by decide) (by decide) Φ
theorem bigSep_four (Φ : Fin 4 → sProp 𝕄) : bigSep Finset.univ Φ = iprop(Φ 0 ∗ Φ 1 ∗ Φ 2 ∗ Φ 3) :=
  bigSep_univ_eq_bigSepL [(0 : Fin 4), (1 : Fin 4), (2 : Fin 4), (3 : Fin 4)] (by decide) (by decide) Φ

/-- The input array is its eight blocks. -/
theorem x_blocks (XA : Bf (F := F) c aM) : pt c aM XA = bigSep Finset.univ (xhome c XA) := by
  rw [show pt c aM XA = ((c : Thread nD τ).loc main_call0_v0 ↦{fullShare} XA : sProp 𝕄) from rfl,
    Ring.pointsTo_blocks (ℓ := (c : Thread nD τ).loc main_call0_v0) XB XB_disjoint XB_cover]
  exact bigSep_congr fun b _ => by rw [← xblk_set]; rfl
/-- The output array is its eight blocks, each in four chunks. -/
theorem o_blocks (O : Bf (F := F) c oM) : pt c oM O = bigSep Finset.univ (fun q => quadAt c q fun _ => O) := by
  rw [show pt c oM O = ((c : Thread nD τ).loc main_call0_v3 ↦{fullShare} O : sProp 𝕄) from rfl,
    Ring.pointsTo_blocks (ℓ := (c : Thread nD τ).loc main_call0_v3) XB XB_disjoint XB_cover]
  refine bigSep_congr fun b _ => ?_
  rw [← OB_cover, pointsTo_biUnion (ℓ := (c : Thread nD τ).loc main_call0_v3) Finset.univ (OB b) (fun i _ i' _ h => OB_disjoint b i i' h),
    bigSep_four, ← oblk_set, ← oblk_set, ← oblk_set, ← oblk_set]
  rfl
theorem xs_eq (f : Bf (F := F) c xM) : pt c xM f = iprop(pv (F := F) c (xslot 0) f ∗ pv (F := F) c (xslot 1) f) := by
  rw [show pt c xM f = ((c : Thread nD τ).loc cc0_scratch0 ↦{fullShare} f : sProp 𝕄) from rfl,
    Ring.pointsTo_blocks (ℓ := (c : Thread nD τ).loc cc0_scratch0) XS XS_disjoint XS_cover, bigSep_two, ← xslot_set, ← xslot_set]
  rfl
theorem ys_eq (f : Bf (F := F) c yM) :
    pt c yM f = iprop(pv (F := F) c (yslot 0) f ∗ pv (F := F) c (yslot 1) f ∗ pv (F := F) c (yslot 2) f ∗ pv (F := F) c (yslot 3) f) := by
  rw [show pt c yM f = ((c : Thread nD τ).loc cc0_scratch1 ↦{fullShare} f : sProp 𝕄) from rfl,
    Ring.pointsTo_blocks (ℓ := (c : Thread nD τ).loc cc0_scratch1) YS YS_disjoint YS_cover, bigSep_four, ← yslot_set, ← yslot_set, ← yslot_set, ← yslot_set]
  rfl
/-- Slots held at any contents are the buffer held at some. -/
theorem xs_join (f0 : Bf (F := F) c (xslot 0)) (f1 : Bf (F := F) c (xslot 1)) :
    iprop(pv c (xslot 0) f0 ∗ pv c (xslot 1) f1) ⊢ (iprop(∃ f, pt (F := F) c xM f) : sProp 𝕄) := by
  have h := Ring.pointsTo_blocks_join_exists (ℓ := (c : Thread nD τ).loc cc0_scratch0) (Val := Elt F) (U := Pipeline.UD sig nD τ) (Ix := Unit) (Name := ℕ) (Lvl := ℕ) XS XS_disjoint XS_cover (q := fullShare) f0
  rw [bigSep_two] at h
  refine .trans ?_ h
  iintro ⟨H0, H1⟩
  isplitl [H0]
  · iexists f0; rw [← xslot_set]; iexact H0
  · iexists f1; rw [← xslot_set]; iexact H1
theorem ys_join (f0 : Bf (F := F) c (yslot 0)) (f1 : Bf (F := F) c (yslot 1)) (f2 : Bf (F := F) c (yslot 2)) (f3 : Bf (F := F) c (yslot 3)) :
    iprop(pv c (yslot 0) f0 ∗ pv c (yslot 1) f1 ∗ pv c (yslot 2) f2 ∗ pv c (yslot 3) f3) ⊢ (iprop(∃ f, pt (F := F) c yM f) : sProp 𝕄) := by
  have h := Ring.pointsTo_blocks_join_exists (ℓ := (c : Thread nD τ).loc cc0_scratch1) (Val := Elt F) (U := Pipeline.UD sig nD τ) (Ix := Unit) (Name := ℕ) (Lvl := ℕ) YS YS_disjoint YS_cover (q := fullShare) f0
  rw [bigSep_four] at h
  refine .trans ?_ h
  iintro ⟨H0, H1, H2, H3⟩
  isplitl [H0]
  · iexists f0; rw [← yslot_set]; iexact H0
  isplitl [H1]
  · iexists f1; rw [← yslot_set]; iexact H1
  isplitl [H2]
  · iexists f2; rw [← yslot_set]; iexact H2
  · iexists f3; rw [← yslot_set]; iexact H3

end Split

end Cert.Proof.Ideal

end
-- ==== Proof.Ideal.Region.lean ====
/-
  What the region holds between its points, and each point's step from one to the next.
-/
module

public import proofs.«01_k».proof.Proof.Ideal.Splits

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Inv
variable (c : Dev nD) (XA : Bf (F := F) c aM) (O : Bf (F := F) c oM) (arr : (q : Fin 8) → (j : Fin 4) → Bf (F := F) c (oblk q j))

/-- A transfer's slot as it lands: kept as written. -/
abbrev landed : (s : Fin 2) → Fin 8 → Bf (F := F) c (xslot s) → Bf (F := F) c (xslot s) := fun _ _ f => f
abbrev slotX (s : Fin 2) (f : Bf (F := F) c (xslot s)) : sProp 𝕄 := pv c (xslot s) f
abbrev flightX (s : Fin 2) (q : Fin 8) (f : Bf (F := F) c (xslot s)) : sProp 𝕄 := xfly c XA s q (xland c s (xpay c XA q) f)

/-- The input's blocks and slots before point `k`. -/
def ringX (k : ℕ) : sProp 𝕄 :=
  if k = 0 then Ring.At₀ (NB := 8) (fun s => xcell (F := F) c s) (slotX c) (xhome c XA)
  else Ring.AtK 1 (fun s => xcell (F := F) c s) (slotX c) (xhome c XA) (flightX c XA) (landed c) k

theorem ringX_first (k : ℕ) (hk : k = 0) :
    ringX c XA k = iprop((xhome c XA (Ring.bk 8 k) ∗ xhome c XA (Ring.bk 8 (k + 1)) ∗ bigSep ((Ring.homeSet 1 0).erase (Ring.bk 8 1)) (xhome c XA))
      ∗ freeX (F := F) c (Ring.sl 2 k) ∗ freeX (F := F) c (Ring.sl 2 (k + 1))) := by
  unfold ringX; rw [if_pos hk]
  exact (Ring.At₀_eq2' _ _ _ k hk (by decide))
theorem ringX_one (k : ℕ) (hk : k = 0) :
    ringX c XA (k + 1) = iprop(bigSep (Ring.homeSet 1 1) (xhome c XA) ∗ flyX c XA (Ring.sl 2 (k + 1)) (Ring.bk 8 (k + 1)) ∗ freeX (F := F) c (Ring.sl 2 k)) := by
  unfold ringX; rw [if_neg (by omega)]
  exact (Ring.AtK2_one' _ _ _ _ _ k hk (by decide))
theorem home_one (k : ℕ) (hk : k = 0) :
    bigSep (Ring.homeSet 1 1) (xhome c XA) = iprop(xhome c XA (Ring.bk 8 k) ∗ bigSep ((Ring.homeSet 1 0).erase (Ring.bk 8 1)) (xhome c XA)) := by
  subst hk
  rw [show (Ring.homeSet (NB := 8) 1 1) = insert (Ring.bk 8 0) ((Ring.homeSet 1 0).erase (Ring.bk 8 1)) from by decide, bigSep_insert (by decide)]; rfl
theorem ringX_here (k : ℕ) (h1 : 1 ≤ k) (hB : k + 1 < 8) :
    ringX c XA k = iprop((xhome c XA (Ring.bk 8 (k + 1)) ∗ bigSep ((Ring.homeSet 1 k).erase (Ring.bk 8 (k + 1))) (xhome c XA))
      ∗ flyX c XA (Ring.sl 2 k) (Ring.bk 8 k) ∗ freeX (F := F) c (Ring.sl 2 (k + 1))) := by
  unfold ringX; rw [if_neg (by omega)]
  exact (Ring.AtK2_here _ _ _ _ _ k h1 hB)
theorem ringX_next (k : ℕ) (h1 : 1 ≤ k) (hB : k + 1 < 8) :
    ringX c XA (k + 1) = iprop((xhome c XA (Ring.bk 8 k) ∗ bigSep ((Ring.homeSet 1 k).erase (Ring.bk 8 (k + 1))) (xhome c XA))
      ∗ flyX c XA (Ring.sl 2 (k + 1)) (Ring.bk 8 (k + 1)) ∗ freeX (F := F) c (Ring.sl 2 k)) := by
  unfold ringX; rw [if_neg (by omega)]
  exact (Ring.AtK2_next _ _ _ _ _ k h1 hB)
theorem ringX_here_last (k : ℕ) (hB : k + 1 = 8) :
    ringX c XA k = iprop(bigSep (Ring.homeSet 1 k) (xhome c XA) ∗ flyX c XA (Ring.sl 2 k) (Ring.bk 8 k) ∗ freeX (F := F) c (Ring.sl 2 (k + 1))) := by
  unfold ringX; rw [if_neg (by omega)]
  exact (Ring.AtK2_here_last _ _ _ _ _ k (by omega) hB)
theorem ringX_next_last (k : ℕ) (hB : k + 1 = 8) :
    ringX c XA (k + 1) = iprop((xhome c XA (Ring.bk 8 k) ∗ bigSep (Ring.homeSet 1 k) (xhome c XA))
      ∗ freeX (F := F) c (Ring.sl 2 (k + 1)) ∗ freeX (F := F) c (Ring.sl 2 k)) := by
  unfold ringX; rw [if_neg (by omega)]
  exact (Ring.AtK2_next_last _ _ _ _ _ k (by omega) hB)
theorem ringX_zero : ringX c XA 0 = iprop(bigSep Finset.univ (xhome c XA) ∗ freeX (F := F) c 0 ∗ freeX (F := F) c 1) := by
  unfold ringX; rw [if_pos rfl]; unfold Ring.At₀; rw [bigSep_two]; rfl
theorem ringX_end : ringX c XA 8 ⊢ iprop(bigSep Finset.univ (xhome c XA) ∗ freeX (F := F) c 0 ∗ freeX (F := F) c 1) := by
  unfold ringX; rw [if_neg (by decide)]
  exact Ring.free2_of_AtK_last _ _ _ _ _

/-- The output's blocks and slots before point `k`. -/
def ringY (k : ℕ) : sProp 𝕄 :=
  if k = 0 then iprop(bigSep Finset.univ (fun q => quadAt c q fun _ => O) ∗ freeY (F := F) c)
  else if k = 8 then iprop(bigSep Finset.univ (fun q => quadAt c q (arr q)) ∗ freeY (F := F) c)
  else iprop(bigSep (Ring.rangeSet 8 0 (k - 1)) (fun q => quadAt c q (arr q)) ∗ bigSep (Ring.rangeSet 8 k 8) (fun q => quadAt c q fun _ => O)
    ∗ flyAt c (Ring.bk 8 (k - 1)) (arr (Ring.bk 8 (k - 1))))

theorem ringY_first (k : ℕ) (hk : k = 0) :
    ringY c O arr k = iprop((quadAt c (Ring.bk 8 k) (fun _ => O) ∗ bigSep (Ring.rangeSet 8 (k + 1) 8) (fun q => quadAt c q fun _ => O)) ∗ freeY (F := F) c) := by
  subst hk
  unfold ringY; rw [if_pos rfl, ← Ring.rangeSet_univ, Ring.bigSep_rangeSet_head (by decide) (by decide)]; rfl
theorem ringY_one (k : ℕ) (hk : k = 0) :
    ringY c O arr (k + 1) = iprop(emp ∗ bigSep (Ring.rangeSet 8 (k + 1) 8) (fun q => quadAt c q fun _ => O) ∗ flyAt c (Ring.bk 8 k) (arr (Ring.bk 8 k))) := by
  subst hk
  unfold ringY; rw [if_neg (by decide), if_neg (by decide), Ring.bigSep_rangeSet_empty (by decide)]
theorem bk_eq (k : ℕ) (h : k < 8) : Ring.bk 8 k = ⟨k, h⟩ := Fin.ext (Nat.mod_eq_of_lt h)
theorem ringY_here (k : ℕ) (h1 : 1 ≤ k) (hB : k < 8) :
    ringY c O arr k = iprop(bigSep (Ring.rangeSet 8 0 (k - 1)) (fun q => quadAt c q (arr q))
      ∗ (quadAt c (Ring.bk 8 k) (fun _ => O) ∗ bigSep (Ring.rangeSet 8 (k + 1) 8) (fun q => quadAt c q fun _ => O))
      ∗ flyAt c (Ring.bk 8 (k - 1)) (arr (Ring.bk 8 (k - 1)))) := by
  unfold ringY; rw [if_neg (by omega), if_neg (by omega), Ring.bigSep_rangeSet_head hB hB, ← bk_eq k hB]
theorem ringY_next (k : ℕ) (h1 : 1 ≤ k) (hB : k + 1 < 8) :
    ringY c O arr (k + 1) = iprop((quadAt c (Ring.bk 8 (k - 1)) (arr (Ring.bk 8 (k - 1))) ∗ bigSep (Ring.rangeSet 8 0 (k - 1)) (fun q => quadAt c q (arr q)))
      ∗ bigSep (Ring.rangeSet 8 (k + 1) 8) (fun q => quadAt c q fun _ => O)
      ∗ flyAt c (Ring.bk 8 k) (arr (Ring.bk 8 k))) := by
  unfold ringY; rw [if_neg (by omega), if_neg (by omega), show k + 1 - 1 = k from rfl, Ring.bigSep_rangeSet_last (by omega) (by omega), ← bk_eq (k - 1) (by omega)]
theorem ringY_next_last (k : ℕ) (hB : k + 1 = 8) :
    ringY c O arr (k + 1) = iprop((quadAt c (Ring.bk 8 k) (arr (Ring.bk 8 k)) ∗ quadAt c (Ring.bk 8 (k - 1)) (arr (Ring.bk 8 (k - 1)))
        ∗ bigSep (Ring.rangeSet 8 0 (k - 1)) (fun q => quadAt c q (arr q))) ∗ freeY (F := F) c) := by
  obtain rfl : k = 7 := by omega
  unfold ringY; rw [if_neg (by decide), if_pos rfl, ← Ring.rangeSet_univ, Ring.bigSep_rangeSet_last (by decide) (by decide),
    Ring.bigSep_rangeSet_last (show 0 < 8 - 1 by decide) (by decide)]; rfl

/-- What the region holds before point `k`. -/
def ΦN (k : ℕ) : sProp 𝕄 := iprop((∃ f, pt (F := F) c tM f) ∗ (∃ f, pt (F := F) c gM f) ∗ ringX c XA k ∗ ringY c O arr k)

/-! ## The points' conditions -/

theorem pn_coords : ∀ t : Fin grid0.N, pn (grid0.coords t) = t.val := by decide
theorem coords_zero : ∀ t : Fin grid0.N, t.val = 0 → grid0.coords t = point0 := by decide
theorem cond1 : ∀ t : Fin grid0.N, t.val ≠ 0 →
    ¬ Scalar.cmpi .ne (Scalar.extui (Scalar.cmpi .eq (BitVec.ofNat 32 (grid0.coords t 0).val) 0#32)) 0#32 = 1#1 := by decide
theorem cond2 : ∀ t : Fin grid0.N, k0_cond2 (grid0.coords t) = 1#1 ↔ t.val + 1 < 8 := by decide
theorem cond3 : ∀ t : Fin grid0.N, t.val ≠ 0 → k0_cond3 (grid0.coords t) = 1#1 := by decide
theorem cond4 : ∀ t : Fin grid0.N, t.val ≠ 0 → k0_cond4 (grid0.coords t) = 1#1 := by decide
theorem cond5 : ∀ t : Fin grid0.N, t.val ≠ 0 → k0_cond5 (grid0.coords t) = 1#1 := by decide
theorem cond6 : ∀ t : Fin grid0.N, t.val ≠ 0 → k0_cond6 (grid0.coords t) = 1#1 := by decide
theorem cond7 : ∀ t : Fin grid0.N, k0_cond7 (grid0.coords t) = 1#1 ↔ t.val + 1 = 8 := by decide

variable (M2 : Memref sig .tc .vmem S256x256 .f32) (w2 : M2.IsWhole) (M3 : Memref sig .tc .vmem S512x4 .f32) (w3 : M3.IsWhole)
  (M4 : Memref sig .tc .vmem S4x512 .f32) (w4 : M4.IsWhole) (M5 : Memref sig .tc .vmem S256x1 .f32) (w5 : M5.IsWhole)
  (M6 : Memref sig .tc .smem S1x1 .f32) (w6 : M6.IsWhole)
  (f2 : Bf (F := F) c M2) (f3 : Bf (F := F) c M3) (f4 : Bf (F := F) c M4) (f5 : Bf (F := F) c M5) (f6 : Bf (F := F) c M6)

theorem point_first (harr : ∀ q j, arrived c M2 M3 M4 M5 M6 XA f2 f3 f4 f5 f6 O q j = arr q j) (Q : PUnit → sProp 𝕄) :
    iprop((opsAt c M2 M3 M4 M5 M6 f2 f3 f4 f5 f6 ∗ ΦN c XA O arr (pn point0) ∗ ∃ W, owes (c : Thread nD τ) 0 W)
      ∗ (iprop(opsAt c M2 M3 M4 M5 M6 f2 f3 f4 f5 f6 ∗ ΦN c XA O arr (pn point0 + 1) ∗ ∃ W, owes (c : Thread nD τ) 0 W) -∗ Q ⟨⟩))
    ⊢ wp frame (wpE (defs₀ (F := F)) 𝒱₀ (c : Thread nD τ) none) Set.univ (bodyAt M2 w2 M3 w3 M4 w4 M5 w5 M6 w6 point0) Q := by
  have hq : arrived c M2 M3 M4 M5 M6 XA f2 f3 f4 f5 f6 O (Ring.bk 8 (pn point0)) = arr (Ring.bk 8 (pn point0)) := funext (harr _)
  unfold ΦN
  rw [ringX_first c XA (pn point0) rfl, ringX_one c XA (pn point0) rfl, home_one c XA (pn point0) rfl,
    ringY_first c O arr (pn point0) rfl, ringY_one c O arr (pn point0) rfl]
  iintro ⟨⟨Hm, ⟨Ht, Hg, ⟨⟨Ha, Hb, Hh⟩, Hs, Hn⟩, ⟨HO, HR⟩, HY⟩, HW⟩, Hk⟩
  iapply (firstStep c M2 w2 M3 w3 M4 w4 M5 w5 M6 w6 XA f2 f3 f4 f5 f6 O (by decide) (by decide) (by decide) (by decide) (by decide) (by decide) (by decide) Q)
  rw [hq]
  isplitl [Hm Ht Hg HW Ha Hb Hs Hn HO HY]
  · isplitl [Hm]; · iexact Hm
    isplitl [Ht Hg HW]
    · unfold tgo
      isplitl [Ht]; · iexact Ht
      isplitl [Hg]; · iexact Hg
      iexact HW
    isplitl [Hs Ha]; · isplitl [Hs]; · iexact Hs
                       iexact Ha
    isplitl [Hn]; · iexact Hn
    isplitl [Hb]; · iexact Hb
    isplitl [HY]; · iexact HY
    iexact HO
  unfold tgo
  iintro ⟨Hm, ⟨Ht, Hg, HW⟩, Hs, Ha, HX, HF⟩
  iapply Hk
  isplitl [Hm]; · iexact Hm
  isplitr [HW]
  · isplitl [Ht]; · iexact Ht
    isplitl [Hg]; · iexact Hg
    isplitl [Ha Hh HX Hs]
    · isplitl [Ha Hh]
      · isplitl [Ha]; · iexact Ha
        iexact Hh
      isplitl [HX]; · iexact HX
      iexact Hs
    isplitr; · iempintro
    isplitl [HR]; · iexact HR
    iexact HF
  iexact HW

theorem point_mid (harr : ∀ q j, arrived c M2 M3 M4 M5 M6 XA f2 f3 f4 f5 f6 O q j = arr q j) (t : Fin grid0.N) (h1 : t.val ≠ 0) (hB : t.val + 1 < 8)
    (Q : PUnit → sProp 𝕄) :
    iprop((opsAt c M2 M3 M4 M5 M6 f2 f3 f4 f5 f6 ∗ ΦN c XA O arr (pn (grid0.coords t)) ∗ ∃ W, owes (c : Thread nD τ) 0 W)
      ∗ (iprop(opsAt c M2 M3 M4 M5 M6 f2 f3 f4 f5 f6 ∗ ΦN c XA O arr (pn (grid0.coords t) + 1) ∗ ∃ W, owes (c : Thread nD τ) 0 W) -∗ Q ⟨⟩))
    ⊢ wp frame (wpE (defs₀ (F := F)) 𝒱₀ (c : Thread nD τ) none) Set.univ (bodyAt M2 w2 M3 w3 M4 w4 M5 w5 M6 w6 (grid0.coords t)) Q := by
  have hp := pn_coords t
  have g1 : 1 ≤ pn (grid0.coords t) := by omega
  have g2 : pn (grid0.coords t) + 1 < 8 := by omega
  have c1 := cond1 t h1
  have c2 := (cond2 t).mpr hB
  have c3 := cond3 t h1
  have c4 := cond4 t h1
  have c5 := cond5 t h1
  have c6 := cond6 t h1
  have c7 : ¬ k0_cond7 (grid0.coords t) = 1#1 := fun h => by have := (cond7 t).mp h; omega
  clear hp
  generalize grid0.coords t = i at *
  have hq : arrived c M2 M3 M4 M5 M6 XA f2 f3 f4 f5 f6 O (Ring.bk 8 (pn i)) = arr (Ring.bk 8 (pn i)) := funext (harr _)
  unfold ΦN
  rw [ringX_here c XA (pn i) g1 g2, ringX_next c XA (pn i) g1 g2, ringY_here c O arr (pn i) g1 (by omega), ringY_next c O arr (pn i) g1 g2]
  iintro ⟨⟨Hm, ⟨Ht, Hg, ⟨⟨Hb, Hh⟩, HX, Hn⟩, HD, ⟨HO, HR⟩, HF⟩, HW⟩, Hk⟩
  iapply (midStep c M2 w2 M3 w3 M4 w4 M5 w5 M6 w6 XA f2 f3 f4 f5 f6 O i (Ring.bk 8 (pn i - 1)) (arr (Ring.bk 8 (pn i - 1))) c1 c2 c3 c4 c5 c6 c7 g2 Q)
  rw [hq]
  isplitl [Hm Ht Hg HW HX Hn Hb HF HO]
  · isplitl [Hm]; · iexact Hm
    isplitl [Ht Hg HW]
    · unfold tgo
      isplitl [Ht]; · iexact Ht
      isplitl [Hg]; · iexact Hg
      iexact HW
    isplitl [HX]; · iexact HX
    isplitl [Hn]; · iexact Hn
    isplitl [Hb]; · iexact Hb
    isplitl [HF]; · iexact HF
    iexact HO
  unfold tgo
  iintro ⟨Hm, ⟨Ht, Hg, HW⟩, Hs, Ha, HX, HP, HF⟩
  iapply Hk
  isplitl [Hm]; · iexact Hm
  isplitr [HW]
  · isplitl [Ht]; · iexact Ht
    isplitl [Hg]; · iexact Hg
    isplitl [Ha Hh HX Hs]
    · isplitl [Ha Hh]
      · isplitl [Ha]; · iexact Ha
        iexact Hh
      isplitl [HX]; · iexact HX
      iexact Hs
    isplitl [HP HD]
    · isplitl [HP]; · iexact HP
      iexact HD
    isplitl [HR]; · iexact HR
    iexact HF
  iexact HW

theorem point_last (harr : ∀ q j, arrived c M2 M3 M4 M5 M6 XA f2 f3 f4 f5 f6 O q j = arr q j) (t : Fin grid0.N) (hB : t.val + 1 = 8)
    (Q : PUnit → sProp 𝕄) :
    iprop((opsAt c M2 M3 M4 M5 M6 f2 f3 f4 f5 f6 ∗ ΦN c XA O arr (pn (grid0.coords t)) ∗ ∃ W, owes (c : Thread nD τ) 0 W)
      ∗ (iprop(opsAt c M2 M3 M4 M5 M6 f2 f3 f4 f5 f6 ∗ ΦN c XA O arr (pn (grid0.coords t) + 1) ∗ ∃ W, owes (c : Thread nD τ) 0 W) -∗ Q ⟨⟩))
    ⊢ wp frame (wpE (defs₀ (F := F)) 𝒱₀ (c : Thread nD τ) none) Set.univ (bodyAt M2 w2 M3 w3 M4 w4 M5 w5 M6 w6 (grid0.coords t)) Q := by
  have hp := pn_coords t
  have h1 : t.val ≠ 0 := by omega
  have g2 : pn (grid0.coords t) + 1 = 8 := by omega
  have c1 := cond1 t h1
  have c2 : ¬ k0_cond2 (grid0.coords t) = 1#1 := fun h => by have := (cond2 t).mp h; omega
  have c3 := cond3 t h1
  have c4 := cond4 t h1
  have c5 := cond5 t h1
  have c6 := cond6 t h1
  have c7 := (cond7 t).mpr hB
  clear hp
  generalize grid0.coords t = i at *
  have hq : arrived c M2 M3 M4 M5 M6 XA f2 f3 f4 f5 f6 O (Ring.bk 8 (pn i)) = arr (Ring.bk 8 (pn i)) := funext (harr _)
  unfold ΦN
  rw [ringX_here_last c XA (pn i) g2, ringX_next_last c XA (pn i) g2, ringY_here c O arr (pn i) (by omega) (by omega), ringY_next_last c O arr (pn i) g2]
  iintro ⟨⟨Hm, ⟨Ht, Hg, ⟨Hh, HX, Hn⟩, HD, ⟨HO, HR⟩, HF⟩, HW⟩, Hk⟩
  iapply (lastStep c M2 w2 M3 w3 M4 w4 M5 w5 M6 w6 XA f2 f3 f4 f5 f6 O i (Ring.bk 8 (pn i - 1)) (arr (Ring.bk 8 (pn i - 1))) c1 c2 c3 c4 c5 c6 c7 Q)
  rw [hq]
  isplitl [Hm Ht Hg HW HX HF HO]
  · isplitl [Hm]; · iexact Hm
    isplitl [Ht Hg HW]
    · unfold tgo
      isplitl [Ht]; · iexact Ht
      isplitl [Hg]; · iexact Hg
      iexact HW
    isplitl [HX]; · iexact HX
    isplitl [HF]; · iexact HF
    iexact HO
  unfold tgo
  iintro ⟨Hm, ⟨Ht, Hg, HW⟩, Hs, Ha, HP, HQ, HY⟩
  iapply Hk
  isplitl [Hm]; · iexact Hm
  isplitr [HW]
  · isplitl [Ht]; · iexact Ht
    isplitl [Hg]; · iexact Hg
    isplitl [Ha Hh Hn Hs]
    · isplitl [Ha Hh]
      · isplitl [Ha]; · iexact Ha
        iexact Hh
      isplitl [Hn]; · iexact Hn
      iexact Hs
    isplitr [HY]
    · isplitl [HQ]; · iexact HQ
      isplitl [HP]; · iexact HP
      iexact HD
    iexact HY
  iexact HW

end Inv

end Cert.Proof.Ideal

end
-- ==== Proof.Ideal.Final.lean ====
/-
  What the region leaves in the output array: block by block and chunk by chunk, the words its points send out.
-/
module

public import proofs.«01_k».proof.Proof.Ideal.Region
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pipeline.FrameSuffixV

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation cellOf)
open ValueIdx (ix1 ix2 ix3 ix4)

variable (m : (ℓ : Loc nD τ sig) → Buf (Elt F) ℓ) (ρ : Dev nD → PrngReg)

/-! ## The operands as the region finds them -/

abbrev XAm (c : Dev nD) : Bf (F := F) c aM := V m c main_call0_v0
abbrev Om (c : Dev nD) : Bf (F := F) c oM := V m c main_call0_v3
abbrev mtm (c : Dev nD) : FVec F S256x256 .f32 := V m c main_call0_cst
abbrev poolm (c : Dev nD) : FVec F S512x4 .f32 := V m c main_call0_cst_0
abbrev wrm (c : Dev nD) : FVec F S4x512 .f32 := V m c main_call0_cst_1
abbrev rsm (c : Dev nD) : FVec F S256x1 .f32 := V m c main_call0_v1
abbrev gsm (c : Dev nD) : F .f32 := (V m c main_call0_v2 : FVec F S1x1 .f32) (Shape.Idx.first (s := S1x1) (by decide))

/-- Chunk `j` of block `q` as its point sends it out. -/
def sent (c : Dev nD) (q : Fin 8) (j : Fin 4) : S64x32x512.Idx → Elt F .f32 :=
  outChunk (xpay c (XAm m c) q) (mtm m c) (poolm m c) (wrm m c) (rsm m c) (gsm m c) j
/-- The output array with it arrived. -/
def arrm (c : Dev nD) (q : Fin 8) (j : Fin 4) : Bf (F := F) c (oblk q j) := yland c j q (sent m c q j) (Om m c)
/-- The output array at the region's end. -/
def finalO (c : Dev nD) : S8x256x32x512.Idx → Elt F .f32 := fun y =>
  sent m c ⟨(y 0).val, (y 0).isLt⟩ ⟨(y 1).val / 64, by have : (y 1).val < 256 := (y 1).isLt; omega⟩
    (ix3 (⟨(y 1).val % 64, by omega⟩ : Fin 64) (y 2 : Fin 32) (y 3 : Fin 512))

theorem oblk_emb (q : Fin 8) (j : Fin 4) (z : S64x32x512.Idx) :
    ((oblk q j).view.emb z : S8x256x32x512.Idx) = ix4 (⟨q.val, q.isLt⟩ : Fin 8) (⟨64 * j.val + (z 0).val, by have : (z 0).val < 64 := (z 0).isLt; omega⟩ : Fin 256) (z 1) (z 2) := by
  have h1 : ((oblk q j).view.emb z : S8x256x32x512.Idx)
      = (Rect.unit (s := S8x256x32x512) (obOff q j) S1x64x32x512.size (obOff_inb q j)).emb (Shape.reshapeEquiv squeezes_S1x64x32x512_S64x32x512.numel_eq z) := rfl
  rw [h1, Shape.reshapeEquiv_cons_one]
  funext a
  apply Fin.ext
  rw [Rect.emb_apply]
  match a with
  | ⟨0, _⟩ => rfl
  | ⟨1, _⟩ => show 64 * j.val + 1 * (z 0).val = 64 * j.val + (z 0).val; omega
  | ⟨2, _⟩ => show 0 + 1 * (z 1).val = (z 1).val; omega
  | ⟨3, _⟩ => show 0 + 1 * (z 2).val = (z 2).val; omega

theorem oblk_read (q : Fin 8) (j : Fin 4) (f : oM.view.ty.Contents (Elt F)) (z : S64x32x512.Idx) :
    (oblk q j).view.read (Elt F) f z = f (ix4 (⟨q.val, q.isLt⟩ : Fin 8) (⟨64 * j.val + (z 0).val, by have : (z 0).val < 64 := (z 0).isLt; omega⟩ : Fin 256) (z 1) (z 2)) :=
  (show (oblk q j).view.read (Elt F) f z = (f : S8x256x32x512.Idx → Elt F .f32) ((oblk q j).view.emb z) from rfl).trans
    (congrArg (f : S8x256x32x512.Idx → Elt F .f32) (oblk_emb q j z))
theorem arrm_emb (c : Dev nD) (q : Fin 8) (j : Fin 4) (z : S64x32x512.Idx) :
    (arrm m c q j : S8x256x32x512.Idx → Elt F .f32)
        (ix4 (⟨q.val, q.isLt⟩ : Fin 8) (⟨64 * j.val + (z 0).val, by have : (z 0).val < 64 := (z 0).isLt; omega⟩ : Fin 256) (z 1) (z 2)) = sent m c q j z := by
  refine (oblk_read q j (arrm m c q j) z).symm.trans ?_
  unfold arrm
  exact congrFun (View.read_writes_whole _ _ _) z

theorem arrm_final (c : Dev nD) (q : Fin 8) (j : Fin 4) :
    ∀ y ∈ (oblk q j).view.set, (arrm m c q j : S8x256x32x512.Idx → Elt F .f32) y = finalO m c y := by
  intro y hy
  obtain ⟨z, -, rfl⟩ := Finset.mem_map.mp hy
  have hz : (z 0).val < 64 := (z 0).isLt
  refine (congrArg (arrm m c q j : S8x256x32x512.Idx → Elt F .f32) (oblk_emb q j z)).trans (((arrm_emb m c q j z).trans ?_).trans
    (congrArg (finalO m c) (oblk_emb q j z)).symm)
  unfold finalO
  have e1 : (⟨(64 * j.val + (z 0).val) / 64, by omega⟩ : Fin 4) = j := Fin.ext (by show (64 * j.val + (z 0).val) / 64 = j.val; omega)
  have e2 : (ix3 (⟨(64 * j.val + (z 0).val) % 64, by omega⟩ : Fin 64) (z 1 : Fin 32) (z 2 : Fin 512) : S64x32x512.Idx) = z := by
    funext a; apply Fin.ext
    match a with
    | ⟨0, _⟩ => show (64 * j.val + (z 0).val) % 64 = (z 0).val; omega
    | ⟨1, _⟩ => rfl
    | ⟨2, _⟩ => rfl
  show sent m c q j z = sent m c q ⟨(64 * j.val + (z 0).val) / 64, _⟩ (ix3 (⟨(64 * j.val + (z 0).val) % 64, _⟩ : Fin 64) (z 1 : Fin 32) (z 2 : Fin 512))
  rw [e1, e2]

/-- All blocks arrived, the output array is whole at its final contents. -/
theorem final_blocks (c : Dev nD) : bigSep Finset.univ (fun q => quadAt c q (arrm m c q)) = pt c oM (finalO m c : Bf (F := F) c oM) := by
  rw [o_blocks]
  refine bigSep_congr fun q _ => ?_
  unfold quadAt
  exact congr (congrArg _ (pointsTo_congr (arrm_final m c q 0))) (congr (congrArg _ (pointsTo_congr (arrm_final m c q 1)))
    (congr (congrArg _ (pointsTo_congr (arrm_final m c q 2))) (pointsTo_congr (arrm_final m c q 3))))

/-! ## The windows' blocks: each operand whole -/

theorem iblk_0 (c : Dev nD) (t : Fin cfg0.N) : iblk m c 0 t = mtm m c := by
  funext j; refine congrArg (V m c main_call0_cst) (?_ : ((cfg0.win 0).blk t).view.emb j = j)
  funext a; apply Fin.ext
  match a with
  | ⟨0, _⟩ => show 0 * 256 + 1 * (j 0).val = (j 0).val; omega
  | ⟨1, _⟩ => show 0 * 256 + 1 * (j 1).val = (j 1).val; omega
theorem iblk_1 (c : Dev nD) (t : Fin cfg0.N) : iblk m c 1 t = poolm m c := by
  funext j; refine congrArg (V m c main_call0_cst_0) (?_ : ((cfg0.win 1).blk t).view.emb j = j)
  funext a; apply Fin.ext
  match a with
  | ⟨0, _⟩ => show 0 * 512 + 1 * (j 0).val = (j 0).val; omega
  | ⟨1, _⟩ => show 0 * 4 + 1 * (j 1).val = (j 1).val; omega
theorem iblk_2 (c : Dev nD) (t : Fin cfg0.N) : iblk m c 2 t = wrm m c := by
  funext j; refine congrArg (V m c main_call0_cst_1) (?_ : ((cfg0.win 2).blk t).view.emb j = j)
  funext a; apply Fin.ext
  match a with
  | ⟨0, _⟩ => show 0 * 4 + 1 * (j 0).val = (j 0).val; omega
  | ⟨1, _⟩ => show 0 * 512 + 1 * (j 1).val = (j 1).val; omega
theorem iblk_3 (c : Dev nD) (t : Fin cfg0.N) : iblk m c 3 t = rsm m c := by
  funext j; refine congrArg (V m c main_call0_v1) (?_ : ((cfg0.win 3).blk t).view.emb j = j)
  funext a; apply Fin.ext
  match a with
  | ⟨0, _⟩ => show 0 * 256 + 1 * (j 0).val = (j 0).val; omega
  | ⟨1, _⟩ => show 0 * 1 + 1 * (j 1).val = (j 1).val; omega
theorem iblk_4 (c : Dev nD) (t : Fin cfg0.N) : iblk m c 4 t = (V m c main_call0_v2 : FVec F S1x1 .f32) := by
  funext j; refine congrArg (V m c main_call0_v2) (?_ : ((cfg0.win 4).blk t).view.emb j = j)
  funext a; apply Fin.ext
  match a with
  | ⟨0, _⟩ => show 0 * 1 + 1 * (j 0).val = (j 0).val; omega
  | ⟨1, _⟩ => show 0 * 1 + 1 * (j 1).val = (j 1).val; omega

end Cert.Proof.Ideal

end
-- ==== Proof.Ideal.Frame.lean ====
/-
  The launch: the region entered from the arrays and the scratch, its points run, and the array it writes read back
  by the last host line.
-/
module

public import proofs.«01_k».proof.Proof.Ideal.Final
public import Idealize.ShloMosaic.Lib.VecWindow
public import Idealize.ShloMosaic.Lib.Pipeline.TableIdle

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

open Idealize.ShloMosaic.Pipeline (Dat Cfg Window BodyObligation cellOf)

variable (m : (ℓ : Loc nD τ sig) → Buf (Elt F) ℓ) (ρ : Dev nD → PrngReg)

/-! ## The buffers the kernel moves itself and its semaphores -/

abbrev osem : Fin 6 → SemLoc sig := ![SemLoc.dma 5, SemLoc.dma 6, SemLoc.dma 7, SemLoc.dma 8, SemLoc.dma 9, SemLoc.dma 10]
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(xcell c 0 ∗ xcell c 1 ∗ ycell c 0 ∗ ycell c 1 ∗ ycell c 2 ∗ ycell c 3) := by
  rw [Pipeline.ownSems0_eq_of_list c osem [0, 1, 2, 3, 4, 5] (by decide) (by decide)]; rfl

def readB : Finset (Ref sig .tc) := {main_call0_v0}
def writtenB : Finset (Ref sig .tc) := {main_call0_v3}
theorem readB_sub : readB ⊆ Pipeline.restRefs sig spec0 := by decide
theorem writtenB_sub : writtenB ⊆ Pipeline.restRefs sig spec0 \ readB := by decide
theorem readB_eq (c : Dev nD) (W : (b : Ref sig .tc) → Buf (Elt F) ((c : Thread nD τ).loc b)) :
    (bigSep readB (fun b => ((c : Thread nD τ).loc b) ↦{fullShare} W b) : sProp 𝕄) = pt c aM (W main_call0_v0) := by
  unfold readB; rw [bigSep_singleton]
theorem writtenB_eq (c : Dev nD) (W : (b : Ref sig .tc) → Buf (Elt F) ((c : Thread nD τ).loc b)) :
    (bigSep writtenB (fun b => ((c : Thread nD τ).loc b) ↦{fullShare} W b) : sProp 𝕄) = pt c oM (W main_call0_v3) := by
  unfold writtenB; rw [bigSep_singleton]

/-- What the region leaves in the buffers: the output array at its final contents, the rest as found. -/
def leftB (c : Dev nD) : (b : Ref sig .tc) → Buf (Elt F) ((c : Thread nD τ).loc b) :=
  Function.update (V m c) main_call0_v3 (finalO m c)
theorem leftB_v3 (c : Dev nD) : leftB m c main_call0_v3 = finalO m c := Function.update_self _ _ _

/-! ## The region's proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ p := ΦN c (XAm m c) (Om m c) (arrm m c) p.val
  q _ := fullShare
  owed _ := 0

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem A_eq (c : Dev nD) (w : Fin cfg0.W) : (dats m 0 c).A w = V m c (Pipeline.arrRef spec0 w) := rfl
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)

/-! ## The body obligation -/

abbrev stg0 (t : Fin cfg0.N) : Memref sig .tc .vmem S256x256 .f32 := win0_0.stage (cfg0.slots t 0)
abbrev stg1 (t : Fin cfg0.N) : Memref sig .tc .vmem S512x4 .f32 := win0_1.stage (cfg0.slots t 1)
abbrev stg2 (t : Fin cfg0.N) : Memref sig .tc .vmem S4x512 .f32 := win0_2.stage (cfg0.slots t 2)
abbrev stg3 (t : Fin cfg0.N) : Memref sig .tc .vmem S256x1 .f32 := win0_3.stage (cfg0.slots t 3)
abbrev stg4 (t : Fin cfg0.N) : Memref sig .tc .smem S1x1 .f32 := win0_4.stage (cfg0.slots t 4)

/-- A point's operands, as staged. -/
def stagedOps (c : Dev nD) (t : Fin cfg0.N) : sProp 𝕄 :=
  opsAt c (stg0 t) (stg1 t) (stg2 t) (stg3 t) (stg4 t) ((stg0 t).view.rep (iblk m c 0 t)) ((stg1 t).view.rep (iblk m c 1 t))
    ((stg2 t).view.rep (iblk m c 2 t)) ((stg3 t).view.rep (iblk m c 3 t)) ((stg4 t).view.rep (iblk m c 4 t))

theorem ld2_rep (c : Dev nD) (M : Memref sig .tc .vmem S256x256 .f32) (d : FVec F S256x256 .f32) : ld2 (c := c) M (M.view.rep d) = d :=
  (View.readAt_full M.view _ _).trans (View.read_rep _ _)
theorem ld3_rep (c : Dev nD) (M : Memref sig .tc .vmem S512x4 .f32) (d : FVec F S512x4 .f32) : ld3 (c := c) M (M.view.rep d) = d :=
  (View.readAt_full M.view _ _).trans (View.read_rep _ _)
theorem ld4_rep (c : Dev nD) (M : Memref sig .tc .vmem S4x512 .f32) (d : FVec F S4x512 .f32) : ld4 (c := c) M (M.view.rep d) = d :=
  (View.readAt_full M.view _ _).trans (View.read_rep _ _)
theorem ld5_rep (c : Dev nD) (M : Memref sig .tc .vmem S256x1 .f32) (d : FVec F S256x1 .f32) : ld5 (c := c) M (M.view.rep d) = d :=
  (View.readAt_full M.view _ _).trans (View.read_rep _ _)
theorem ld6_rep (c : Dev nD) (M : Memref sig .tc .smem S1x1 .f32) (d : FVec F S1x1 .f32) : ld6 (c := c) M (M.view.rep d) = d (Shape.Idx.first (s := S1x1) (by decide)) :=
  congrFun ((View.readAt_full M.view _ _).trans (View.read_rep _ _)) _

theorem staged_arr (c : Dev nD) (t : Fin cfg0.N) (q : Fin 8) (j : Fin 4) :
    arrived c (stg0 t) (stg1 t) (stg2 t) (stg3 t) (stg4 t) (XAm m c) ((stg0 t).view.rep (iblk m c 0 t)) ((stg1 t).view.rep (iblk m c 1 t))
      ((stg2 t).view.rep (iblk m c 2 t)) ((stg3 t).view.rep (iblk m c 3 t)) ((stg4 t).view.rep (iblk m c 4 t)) (Om m c) q j = arrm m c q j := by
  unfold arrived arrm sent outRun
  rw [ld2_rep, ld3_rep, ld4_rep, ld5_rep, ld6_rep, iblk_0, iblk_1, iblk_2, iblk_3, iblk_4]

theorem point (c : Dev nD) (t : Fin cfg0.N) (Q : PUnit → sProp 𝕄) :
    iprop((stagedOps m c t ∗ ΦN c (XAm m c) (Om m c) (arrm m c) t.val ∗ ∃ W, owes (c : Thread nD τ) 0 W)
      ∗ (iprop(stagedOps m c t ∗ ΦN c (XAm m c) (Om m c) (arrm m c) (t.val + 1) ∗ ∃ W, owes (c : Thread nD τ) 0 W) -∗ Q ⟨⟩))
    ⊢ wp frame (wpE (defs₀ (F := F)) 𝒱₀ (c : Thread nD τ) none) Set.univ (bodyAt0 t) Q := by
  have hp := pn_coords t
  have hN : t.val < 8 := t.isLt
  unfold stagedOps bodyAt0
  rw [← hp]
  by_cases h0 : t.val = 0
  · rw [coords_zero t h0]
    exact point_first c (XAm m c) (Om m c) (arrm m c) (stg0 t) _ (stg1 t) _ (stg2 t) _ (stg3 t) _ (stg4 t) _ _ _ _ _ _ (staged_arr m c t) Q
  by_cases h8 : t.val + 1 = 8
  · exact point_last c (XAm m c) (Om m c) (arrm m c) (stg0 t) _ (stg1 t) _ (stg2 t) _ (stg3 t) _ (stg4 t) _ _ _ _ _ _ (staged_arr m c t) t h8 Q
  · exact point_mid c (XAm m c) (Om m c) (arrm m c) (stg0 t) _ (stg1 t) _ (stg2 t) _ (stg3 t) _ (stg4 t) _ _ _ _ _ _ (staged_arr m c t) t h0 (by omega) Q

/-- A staged operand, owned at its block, is its buffer at the block's representative. -/
theorem owns_rep (c : Dev nD) {sp : Space} {S : Shape} {e : EltTy} (M : Memref sig .tc sp S e) (h : M.IsWhole) (d : S.Idx → Elt F e) :
    (owns (c : Thread nD τ) M fullShare d : sProp 𝕄) = pt c M (M.view.rep d) := by
  rw [owns_eq_rep, h.set_eq_univ]

/-- A point's operands, owned window by window. -/
def ownedOps (c : Dev nD) (t : Fin cfg0.N) : sProp 𝕄 :=
  iprop(owns (c : Thread nD τ) (stg0 t) fullShare (iblk m c 0 t) ∗ owns (c : Thread nD τ) (stg1 t) fullShare (iblk m c 1 t)
    ∗ owns (c : Thread nD τ) (stg2 t) fullShare (iblk m c 2 t) ∗ owns (c : Thread nD τ) (stg3 t) fullShare (iblk m c 3 t)
    ∗ owns (c : Thread nD τ) (stg4 t) fullShare (iblk m c 4 t))
theorem ownedOps_eq (c : Dev nD) (t : Fin cfg0.N) : ownedOps m c t = stagedOps m c t := by
  unfold ownedOps stagedOps opsAt
  rw [owns_rep c (stg0 t) (hstage0_0 _), owns_rep c (stg1 t) (hstage0_1 _), owns_rep c (stg2 t) (hstage0_2 _), owns_rep c (stg3 t) (hstage0_3 _),
    owns_rep c (stg4 t) (hstage0_4 _)]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) 𝒱₀ c none) Set.univ (bodyAt0 t) (fun _ => bodyPost m c t) := by
  unfold bodyPre bodyPost
  simp only [before_0, before_1, before_2, before_3, before_4, after_0, after_1, after_2, after_3, after_4]
  rw [show (dats m 0 c).Φ t.castSucc = ΦN c (XAm m c) (Om m c) (arrm m c) t.val from rfl,
    show (dats m 0 c).Φ t.succ = ΦN c (XAm m c) (Om m c) (arrm m c) (t.val + 1) from rfl]
  unfold Dat.owesAt Pipeline.owesWithin
  rw [show (dats m 0 c).owed t.castSucc = 0 from rfl, show (dats m 0 c).owed t.succ = 0 from rfl]
  iintro ⟨HΦ, ⟨%W, -, HW⟩, ⟨%d0, H0⟩, ⟨%d1, H1⟩, ⟨%d2, H2⟩, ⟨%d3, H3⟩, ⟨%d4, H4⟩⟩
  iapply (point m c t _)
  rw [← ownedOps_eq]
  unfold ownedOps
  isplitl [HΦ HW H0 H1 H2 H3 H4]
  · isplitl [H0 H1 H2 H3 H4]
    · isplitl [H0]; · iexact H0
      isplitl [H1]; · iexact H1
      isplitl [H2]; · iexact H2
      isplitl [H3]; · iexact H3
      iexact H4
    isplitl [HΦ]; · iexact HΦ
    iexists W; iexact HW
  iintro ⟨⟨H0, H1, H2, H3, H4⟩, HΦ, ⟨%W', HW'⟩⟩
  isplitl [HΦ]; · iexact HΦ
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  iexact H4

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## Into the region and out of it -/

theorem entails_eq {P Q : sProp 𝕄} (e : P = Q) : P ⊢ Q := by rw [e]

theorem into (c : Dev nD) :
    (Pipeline.ΦDRV osem spec0 readB writtenB (V m) (V m) c : sProp 𝕄) ⊢ (dats m 0 c).Φ 0 := by
  unfold Pipeline.ΦDRV
  rw [scopedRest0_eq, ownSems_eq, readB_eq, writtenB_eq]
  rw [show (dats m 0 c).Φ 0 = ΦN c (XAm m c) (Om m c) (arrm m c) 0 from rfl]
  unfold ΦN
  rw [ringX_zero, show ringY c (Om m c) (arrm m c) 0 = iprop(bigSep Finset.univ (fun q => quadAt c q fun _ => Om m c) ∗ freeY (F := F) c) from rfl,
    ← x_blocks, ← o_blocks]
  unfold freeX freeY
  iintro ⟨⟨⟨%fx, Hx⟩, ⟨%fy, Hy⟩, Ht, Hg⟩, ⟨Hc0, Hc1, Hd0, Hd1, Hd2, Hd3⟩, HA, HO⟩
  ihave Hx2 := (entails_eq (xs_eq c fx)) $$ Hx
  ihave Hy2 := (entails_eq (ys_eq c fy)) $$ Hy
  icases Hx2 with ⟨Hx0, Hx1⟩
  icases Hy2 with ⟨Hy0, Hy1, Hy2, Hy3⟩
  isplitl [Ht]; · iexact Ht
  isplitl [Hg]; · iexact Hg
  isplitl [HA Hx0 Hx1 Hc0 Hc1]
  · isplitl [HA]; · iexact HA
    isplitl [Hc0 Hx0]
    · isplitl [Hc0]; · iexact Hc0
      iexists fx; iexact Hx0
    isplitl [Hc1]; · iexact Hc1
    iexists fx; iexact Hx1
  isplitl [HO]; · iexact HO
  isplitl [Hy0 Hd0]
  · isplitl [Hy0]
    · iexists fy; iexact Hy0
    iexact Hd0
  isplitl [Hy1 Hd1]
  · isplitl [Hy1]
    · iexists fy; iexact Hy1
    iexact Hd1
  isplitl [Hy2 Hd2]
  · isplitl [Hy2]
    · iexists fy; iexact Hy2
    iexact Hd2
  isplitl [Hy3]
  · iexists fy; iexact Hy3
  iexact Hd3

theorem outOf (c : Dev nD) :
    (dats m 0 c).Φ (Fin.last cfg0.N) ⊢ (Pipeline.ΦDRV osem spec0 readB writtenB (V m) (leftB m) c : sProp 𝕄) := by
  unfold Pipeline.ΦDRV
  rw [scopedRest0_eq, ownSems_eq, readB_eq, writtenB_eq, leftB_v3]
  rw [show (dats m 0 c).Φ (Fin.last cfg0.N) = ΦN c (XAm m c) (Om m c) (arrm m c) 8 from rfl]
  unfold ΦN
  rw [show ringY c (Om m c) (arrm m c) 8 = iprop(bigSep Finset.univ (fun q => quadAt c q (arrm m c q)) ∗ freeY (F := F) c) from rfl,
    final_blocks, x_blocks]
  iintro ⟨Ht, Hg, HX, HO, HY⟩
  ihave HX' := (ringX_end c (XAm m c)) $$ HX
  unfold freeX freeY
  icases HX' with ⟨HA, ⟨Hc0, ⟨%f0, Hx0⟩⟩, ⟨Hc1, ⟨%f1, Hx1⟩⟩⟩
  icases HY with ⟨⟨⟨%g0, Hy0⟩, Hd0⟩, ⟨⟨%g1, Hy1⟩, Hd1⟩, ⟨⟨%g2, Hy2⟩, Hd2⟩, ⟨⟨%g3, Hy3⟩, Hd3⟩⟩
  isplitl [Hx0 Hx1 Hy0 Hy1 Hy2 Hy3 Ht Hg]
  · isplitl [Hx0 Hx1]
    · iapply (xs_join c f0 f1)
      isplitl [Hx0]; · iexact Hx0
      iexact Hx1
    isplitl [Hy0 Hy1 Hy2 Hy3]
    · iapply (ys_join c g0 g1 g2 g3)
      isplitl [Hy0]; · iexact Hy0
      isplitl [Hy1]; · iexact Hy1
      isplitl [Hy2]; · iexact Hy2
      iexact Hy3
    isplitl [Ht]; · iexact Ht
    iexact Hg
  isplitl [Hc0 Hc1 Hd0 Hd1 Hd2 Hd3]
  · isplitl [Hc0]; · iexact Hc0
    isplitl [Hc1]; · iexact Hc1
    isplitl [Hd0]; · iexact Hd0
    isplitl [Hd1]; · iexact Hd1
    isplitl [Hd2]; · iexact Hd2
    iexact Hd3
  isplitl [HA]; · iexact HA
  iexact HO

/-! ## The run -/

set_option maxHeartbeats 800000 in
theorem hmainD : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- Core `c`'s buffers at the end: the last host line run on what the region leaves. -/
abbrev endV (c : Dev nD) (b : Ref sig .tc) : Buf (Elt F) ((c : Thread nD τ).loc b) :=
  StableHlo.after [hostOps1].flatten (Pipeline.withArrays spec0 c (Pipeline.withR (V0 m c) writtenB c (leftB m c)) fun w => (dats m 0 c).arrAt w cfg0.N) (Proc.devRef .tc b)

set_option backward.isDefEq.respectTransparency.types false in
theorem run_main : θ_run defs (onTc (τ := τ) (main (F := F))) (s₀ m ρ)
    (fun r => (∀ c : Dev nD, ∀ b ∈ Pipeline.restRefs sig spec0, r.2.mem ((c : Thread nD τ).loc b) = endV m c b) ∧ r.2.sem = fun _ => 0) :=
  Pipeline.θ_run_frame_dmaR_aroundV cfgs (dats m) (0 : Fin 1) launch0 osem defs₀ 𝒱₀ ownSemFacts readB writtenB readB_sub writtenB_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (G := leftB m) (hmain := hmainD m) (hA := A_eq m) (hin := into m) (hout := outOf m)
    (Q' := _) (hQ' := fun r h => ⟨fun c b hb => (h.1 c).2 b hb, h.2⟩)

end Cert.Proof.Ideal

end
-- ==== Proof.Ideal.Outcome.lean ====
/-
  What a run leaves: the arguments as launched, the result array at the region's final contents in the result's shape,
  every counter at zero; and the operands the region finds, read off the host lines before it.
-/
module

public import proofs.«01_k».proof.Proof.Ideal.Frame
public import Idealize.ShloMosaic.Lib.StableHlo.RunRead

@[expose] public section

set_option maxRecDepth 16384

noncomputable section

namespace Cert.Proof.Ideal

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer neither the region nor the last line writes ends as the region finds it. -/
theorem end_kept (c : Dev nD) (b : Ref sig .tc) (h : b ≠ main_v0) (hR : b ∉ writtenB) (hw : ∀ w, Pipeline.arrRef spec0 w ≠ b) :
    endV m c b = V m c b := by
  unfold endV
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h)),
    Pipeline.withArrays_of_ne _ c _ _ b hw, Pipeline.withR_of_not_mem _ _ c _ b hR]

theorem end_arg0 (c : Dev nD) : endV m c main_arg0 = m ((c : Thread nD τ).loc main_arg0) :=
  (end_kept m c main_arg0 (by decide) (by decide) (by exact (by decide : ∀ w, Pipeline.arrRef spec0 w ≠ main_arg0))).trans (V_main_arg0 m c)
theorem end_arg1 (c : Dev nD) : endV m c main_arg1 = m ((c : Thread nD τ).loc main_arg1) :=
  (end_kept m c main_arg1 (by decide) (by decide) (by exact (by decide : ∀ w, Pipeline.arrRef spec0 w ≠ main_arg1))).trans (V_main_arg1 m c)
theorem end_arg2 (c : Dev nD) : endV m c main_arg2 = m ((c : Thread nD τ).loc main_arg2) :=
  (end_kept m c main_arg2 (by decide) (by decide) (by exact (by decide : ∀ w, Pipeline.arrRef spec0 w ≠ main_arg2))).trans (V_main_arg2 m c)

/-- The result: the region's final array in the result's shape. -/
def resultV (c : Dev nD) : S8x256x32x32x16.Idx → Elt F .f32 :=
  shapeCast S8x256x32x32x16 (finalO m c) shapeCasts_S8x256x32x512_S8x256x32x32x16
theorem end_v0 (c : Dev nD) : endV m c main_v0 = resultV m c := by
  have h : Pipeline.withArrays spec0 c (Pipeline.withR (V0 m c) writtenB c (leftB m c)) (fun w => (dats m 0 c).arrAt w cfg0.N) (Proc.devRef .tc main_call0_v3)
      = finalO m c := by
    rw [Pipeline.withArrays_of_ne _ c _ _ main_call0_v3 (by exact (by decide : ∀ w, Pipeline.arrRef spec0 w ≠ main_call0_v3)),
      Pipeline.withR_of_mem _ _ c _ main_call0_v3 (by decide), leftB_v3]
  unfold endV
  generalize (Pipeline.withArrays spec0 c _ _) = W at h ⊢
  after_reads_simp
  rw [h]; rfl

theorem run_outcome : θ_run defs (onTc (τ := τ) (main (F := F))) ⟨m, fun _ => 0, ρ⟩ (fun r => (∀ c : Dev nD,
      r.2.mem ((c.tc : Thread nD τ).loc main_v0) = resultV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c main_v0 (Pipeline.mem_restRefs_of main_v0 (by decide) (by decide))).trans (end_v0 m c),
      (h.1 c main_arg0 (Pipeline.mem_restRefs_of main_arg0 (by decide) (by decide))).trans (end_arg0 m c),
      (h.1 c main_arg1 (Pipeline.mem_restRefs_of main_arg1 (by decide) (by decide))).trans (end_arg1 m c),
      (h.1 c main_arg2 (Pipeline.mem_restRefs_of main_arg2 (by decide) (by decide))).trans (end_arg2 m c)⟩, h.2⟩) (run_main m ρ)

/-- The frame: the arguments end as launched and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_outcome m ρ)

/-! ## The operands, off the host lines before the region -/

theorem V_cst (c : Dev nD) : V m c main_call0_cst = fun i => FloatOps.ofBits .f32 (lit0 (S256x256.rowMajor i)) := by
  unfold V V0; after_reads_simp; rfl
theorem V_cst_0 (c : Dev nD) : V m c main_call0_cst_0 = fun i => FloatOps.ofBits .f32 (lit1 (S512x4.rowMajor i)) := by
  unfold V V0; after_reads_simp; rfl
theorem V_cst_1 (c : Dev nD) : V m c main_call0_cst_1 = fun i => FloatOps.ofBits .f32 (lit2 (S4x512.rowMajor i)) := by
  unfold V V0; after_reads_simp; rfl
theorem V_v0 (c : Dev nD) : V m c main_call0_v0
    = shapeCast S8x256x32x512 (m ((c : Thread nD τ).loc main_arg0) : FVec F S8x256x32x32x16 .f32) shapeCasts_S8x256x32x32x16_S8x256x32x512 := by
  unfold V V0; after_reads_simp; rfl
theorem V_v1 (c : Dev nD) : V m c main_call0_v1
    = shapeCast S256x1 (m ((c : Thread nD τ).loc main_arg2) : FVec F S1x256x1x1x1 .f32) shapeCasts_S1x256x1x1x1_S256x1 := by
  unfold V V0; after_reads_simp; rfl
theorem V_v2 (c : Dev nD) : V m c main_call0_v2
    = shapeCast S1x1 (m ((c : Thread nD τ).loc main_arg1) : FVec F S_ .f32) shapeCasts_S_S1x1 := by
  unfold V V0; after_reads_simp; rfl

end Cert.Proof.Ideal

end
-- ==== Proof.Bits.Outcome.lean ====
/-
  What a run leaves: the arguments as launched, the result array at the region's final contents in the result's shape,
  every counter at zero; and the operands the region finds, read off the host lines before it.
-/
module

public import proofs.«01_k».proof.Proof.Bits.Frame
public import Idealize.ShloMosaic.Lib.StableHlo.RunRead

@[expose] public section

set_option maxRecDepth 16384

noncomputable section

namespace Cert.Proof.Bits

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A buffer neither the region nor the last line writes ends as the region finds it. -/
theorem end_kept (c : Dev nD) (b : Ref sig .tc) (h : b ≠ main_v0) (hR : b ∉ writtenB) (hw : ∀ w, Pipeline.arrRef spec0 w ≠ b) :
    endV m c b = V m c b := by
  unfold endV
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h)),
    Pipeline.withArrays_of_ne _ c _ _ b hw, Pipeline.withR_of_not_mem _ _ c _ b hR]

theorem end_arg0 (c : Dev nD) : endV m c main_arg0 = m ((c : Thread nD τ).loc main_arg0) :=
  (end_kept m c main_arg0 (by decide) (by decide) (by exact (by decide : ∀ w, Pipeline.arrRef spec0 w ≠ main_arg0))).trans (V_main_arg0 m c)
theorem end_arg1 (c : Dev nD) : endV m c main_arg1 = m ((c : Thread nD τ).loc main_arg1) :=
  (end_kept m c main_arg1 (by decide) (by decide) (by exact (by decide : ∀ w, Pipeline.arrRef spec0 w ≠ main_arg1))).trans (V_main_arg1 m c)
theorem end_arg2 (c : Dev nD) : endV m c main_arg2 = m ((c : Thread nD τ).loc main_arg2) :=
  (end_kept m c main_arg2 (by decide) (by decide) (by exact (by decide : ∀ w, Pipeline.arrRef spec0 w ≠ main_arg2))).trans (V_main_arg2 m c)

/-- The result: the region's final array in the result's shape. -/
def resultV (c : Dev nD) : S8x256x32x32x16.Idx → Elt F .f32 :=
  shapeCast S8x256x32x32x16 (finalO m c) shapeCasts_S8x256x32x512_S8x256x32x32x16
theorem end_v0 (c : Dev nD) : endV m c main_v0 = resultV m c := by
  have h : Pipeline.withArrays spec0 c (Pipeline.withR (V0 m c) writtenB c (leftB m c)) (fun w => (dats m 0 c).arrAt w cfg0.N) (Proc.devRef .tc main_call0_v3)
      = finalO m c := by
    rw [Pipeline.withArrays_of_ne _ c _ _ main_call0_v3 (by exact (by decide : ∀ w, Pipeline.arrRef spec0 w ≠ main_call0_v3)),
      Pipeline.withR_of_mem _ _ c _ main_call0_v3 (by decide), leftB_v3]
  unfold endV
  generalize (Pipeline.withArrays spec0 c _ _) = W at h ⊢
  after_reads_simp
  rw [h]; rfl

theorem run_outcome : θ_run defs (onTc (τ := τ) (main (F := F))) ⟨m, fun _ => 0, ρ⟩ (fun r => (∀ c : Dev nD,
      r.2.mem ((c.tc : Thread nD τ).loc main_v0) = resultV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c main_v0 (Pipeline.mem_restRefs_of main_v0 (by decide) (by decide))).trans (end_v0 m c),
      (h.1 c main_arg0 (Pipeline.mem_restRefs_of main_arg0 (by decide) (by decide))).trans (end_arg0 m c),
      (h.1 c main_arg1 (Pipeline.mem_restRefs_of main_arg1 (by decide) (by decide))).trans (end_arg1 m c),
      (h.1 c main_arg2 (Pipeline.mem_restRefs_of main_arg2 (by decide) (by decide))).trans (end_arg2 m c)⟩, h.2⟩) (run_main m ρ)

/-- The frame: the arguments end as launched and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_outcome m ρ)

end Cert.Proof.Bits

end
-- ==== Proof.Value.Select.lean ====
/-
  The selection, on numbers: ranks by the count of strictly smaller entries, the cut that ranks make where the last
  selected entry is not tied with the first one left out, and the bisection that finds the cut by counting.
-/
module

public import Mathlib.Order.Interval.Finset.Nat
public import Mathlib.Data.Fintype.Card
public import Mathlib.Data.BitVec
public import Mathlib.Data.EReal.Basic
public import Mathlib.Tactic.Ring
public import Mathlib.Tactic.NormNum
public import Mathlib.Tactic.Positivity
public import Mathlib.Algebra.Order.Group.Unbundled.Int

@[expose] public section

namespace Cert.Proof.Value

open Finset

/-- How many entries are strictly below entry `u`. -/
noncomputable def rank (st : Fin 128 → EReal) (u : Fin 128) : ℕ := (univ.filter fun v => st v < st u).card

theorem rank_le (st : Fin 128 → EReal) (u : Fin 128) : rank st u ≤ 128 :=
  (card_le_univ _).trans (by simp)

/-- Where exactly 45 entries are at least `st t₀`, an entry is one of them just when its rank exceeds 82. -/
theorem rank_cut (st : Fin 128 → EReal) (t₀ : Fin 128) (h : (univ.filter fun v => st t₀ ≤ st v).card = 45) (u : Fin 128) :
    82 < rank st u ↔ st t₀ ≤ st u := by
  have hc : (univ.filter fun v => st v < st t₀).card = 83 := by
    have := card_filter_add_card_filter_not (s := (univ : Finset (Fin 128))) (fun v => st t₀ ≤ st v)
    simp only [not_le, h, card_univ, Fintype.card_fin] at this
    omega
  constructor
  · intro hr
    by_contra hlt
    have hlt := not_le.mp hlt
    have : rank st u < 83 := by
      rw [← hc]
      refine card_lt_card ⟨fun v hv => ?_, fun hs => ?_⟩
      · simp only [mem_filter, mem_univ, true_and] at hv ⊢; exact hv.trans hlt
      · have := hs (show u ∈ univ.filter fun v => st v < st t₀ by simpa using hlt)
        simp at this
    omega
  · intro hle
    have : (univ.filter fun v => st v < st t₀).card ≤ rank st u := card_le_card fun v hv => by
      simp only [mem_filter, mem_univ, true_and] at hv ⊢; exact hv.trans_le hle
    omega

/-- How many of the ranks `r` are above the integer `m`. -/
def above (r : Fin 128 → ℕ) (m : ℤ) : ℕ := (univ.filter fun u => m < (r u : ℤ)).card

theorem above_mono (r : Fin 128 → ℕ) {m m' : ℤ} (h : m ≤ m') : above r m' ≤ above r m :=
  card_le_card fun u hu => by simp only [mem_filter, mem_univ, true_and] at hu ⊢; omega

/-- The bisection's invariant after `i` of its 31 trips: the interval `(lo, lo + 2 ^ (31 - i)]` holds the cut. -/
def Brackets (r : Fin 128 → ℕ) (i : ℕ) (lo hi : BitVec 32) : Prop :=
  ∃ L : ℤ, -1 ≤ L ∧ (i = 0 → L = -1) ∧ lo = BitVec.ofInt 32 L ∧ hi = BitVec.ofInt 32 (L + 2 ^ (31 - i))
    ∧ 46 ≤ above r L ∧ above r (L + 2 ^ (31 - i)) ≤ 45

theorem brackets_start (r : Fin 128 → ℕ) (hr : ∀ u, r u ≤ 128) : Brackets r 0 4294967295#32 2147483647#32 := by
  refine ⟨-1, le_refl _, fun _ => rfl, by decide, by decide, ?_, ?_⟩
  · have : above r (-1) = 128 := by
      unfold above
      rw [filter_true_of_mem (fun u _ => by omega)]; simp
    omega
  · have : above r (-1 + 2 ^ (31 - 0)) = 0 := by
      unfold above
      rw [card_eq_zero, filter_eq_empty_iff]
      intro u _; have := hr u; norm_num; omega
    omega

theorem lo_lt (r : Fin 128 → ℕ) (hr : ∀ u, r u ≤ 128) {L : ℤ} (h : 46 ≤ above r L) : L < 128 := by
  by_contra hL
  have : above r L = 0 := by
    unfold above
    rw [card_eq_zero, filter_eq_empty_iff]
    intro u _; have := hr u; omega
  omega

/-- The midpoint of a bracket, as the signed words compute it. -/
theorem mid_eq (L : ℤ) (i : ℕ) (hi : i < 31) (h0 : -1 ≤ L) (h1 : L < 128) (h2 : i = 0 → L = -1) :
    (BitVec.ofInt 32 L + BitVec.ofInt 32 (L + 2 ^ (31 - i))).sshiftRight 1 = BitVec.ofInt 32 (L + 2 ^ (30 - i)) := by
  have hp : (2 : ℤ) ^ (31 - i) = 2 * 2 ^ (30 - i) := by
    rw [show 31 - i = (30 - i) + 1 by omega, pow_succ]; ring
  have hb : (2 : ℤ) ^ (30 - i) ≤ 2 ^ 30 := pow_le_pow_right₀ (by norm_num) (by omega)
  have hpos : (0 : ℤ) < 2 ^ (30 - i) := by positivity
  have hb' : i ≠ 0 → (2 : ℤ) ^ (30 - i) ≤ 2 ^ 29 := fun h => pow_le_pow_right₀ (by norm_num) (by omega)
  rw [← BitVec.ofInt_add]
  apply BitVec.eq_of_toInt_eq
  rw [BitVec.toInt_sshiftRight, BitVec.toInt_ofInt, BitVec.toInt_ofInt, hp, Int.shiftRight_eq_div_pow]
  generalize (2 : ℤ) ^ (30 - i) = P at *
  have hr1 : (L + (L + 2 * P)).bmod (2 ^ 32) = L + (L + 2 * P) := by
    apply Int.bmod_eq_of_le
    · norm_num; omega
    · norm_num
      rcases Nat.eq_zero_or_pos i with h | h
      · have := h2 h; omega
      · have := hb' (by omega); norm_num at this; omega
  have hr2 : (L + P).bmod (2 ^ 32) = L + P := by
    apply Int.bmod_eq_of_le <;> norm_num <;> norm_num at hb <;> omega
  rw [hr1, hr2]; norm_num; omega

/-- One trip of the bisection: the midpoint replaces the end that keeps the bracket. -/
theorem brackets_step (r : Fin 128 → ℕ) (hr : ∀ u, r u ≤ 128) (i : ℕ) (hi : i < 31) (lo hi' mid : BitVec 32)
    (hm : mid = (lo + hi').sshiftRight 1) (h : Brackets r i lo hi') :
    Brackets r (i + 1) (if 46 ≤ above r mid.toInt then mid else lo) (if 46 ≤ above r mid.toInt then hi' else mid) := by
  obtain ⟨L, h0, hL, hlo, hhi, ha, hb⟩ := h
  have h1 := lo_lt r hr ha
  have hb30 : (2 : ℤ) ^ (30 - i) ≤ 2 ^ 30 := pow_le_pow_right₀ (by norm_num) (by omega)
  have hpos : (0 : ℤ) < 2 ^ (30 - i) := by positivity
  have hp : (2 : ℤ) ^ (31 - i) = 2 * 2 ^ (30 - i) := by
    rw [show 31 - i = (30 - i) + 1 by omega, pow_succ]; ring
  have hs : 31 - (i + 1) = 30 - i := by omega
  have hmid : mid = BitVec.ofInt 32 (L + 2 ^ (30 - i)) := by rw [hm, hlo, hhi]; exact mid_eq L i hi h0 h1 hL
  have hmi : mid.toInt = L + 2 ^ (30 - i) := by
    rw [hmid, BitVec.toInt_ofInt]
    apply Int.bmod_eq_of_le <;> norm_num <;> norm_num at hb30 <;> omega
  by_cases hc : 46 ≤ above r mid.toInt
  · rw [if_pos hc, if_pos hc]
    refine ⟨L + 2 ^ (30 - i), by omega, by omega, hmid, ?_, by rw [← hmi]; exact hc, ?_⟩
    · rw [hhi, hs, hp]; congr 1; ring
    · rw [hs, show L + 2 ^ (30 - i) + 2 ^ (30 - i) = L + 2 ^ (31 - i) by rw [hp]; ring]; exact hb
  · rw [if_neg hc, if_neg hc]
    refine ⟨L, h0, by omega, hlo, by rw [hs]; exact hmid, ha, ?_⟩
    rw [hs, ← hmi]; omega

/-- After the 31 trips the upper end selects what the ranks above 82 select, when those are 45. -/
theorem brackets_end (r : Fin 128 → ℕ) (hr : ∀ u, r u ≤ 128) (lo hi : BitVec 32) (h : Brackets r 31 lo hi)
    (h45 : above r 82 = 45) (u : Fin 128) : hi.toInt < (r u : ℤ) ↔ 82 < r u := by
  obtain ⟨L, h0, -, -, hhi, ha, hb⟩ := h
  have h1 := lo_lt r hr ha
  have hL : L < 82 := by
    by_contra hL
    have := above_mono r (not_lt.mp hL); omega
  norm_num at hhi hb
  have hh : hi.toInt = L + 1 := by
    rw [hhi, BitVec.toInt_ofInt]
    apply Int.bmod_eq_of_le <;> norm_num <;> omega
  rw [hh]
  have hsub : (univ.filter fun u => (82 : ℤ) < (r u : ℤ)) ⊆ univ.filter fun u => L + 1 < (r u : ℤ) := fun v hv => by
    simp only [mem_filter, mem_univ, true_and] at hv ⊢; omega
  have heq := eq_of_subset_of_card_le hsub (by unfold above at hb h45; omega)
  have := Finset.ext_iff.mp heq u
  simp only [mem_filter, mem_univ, true_and] at this
  rw [← this]; norm_cast

end Cert.Proof.Value
-- ==== Proof.Value.Sorted.lean ====
/-
  The first 45 positions of a sort by descending value are the entries at least as great as the cut.
-/
module

public import proofs.«01_k».proof.Proof.Value.Select
public import Idealize.ShloMosaic.PureOps.Ideal
public import Idealize.ShloMosaic.Lib.SortFacts

@[expose] public section

namespace Cert.Proof.Value

open Finset Idealize.ShloMosaic

theorem sorted_cut (st : Fin 128 → EReal) (t₀ : Fin 128) (h : (univ.filter fun v => st t₀ ≤ st v).card = 45) (t : Fin 128) :
    (∃ i : Fin 45, sortedFrom (fun k k' => Ideal.cmp .ogt (st k) (st k') == 1#1) (i.castLE (by decide)) = t) ↔ st t₀ ≤ st t := by
  have hB : (fun k k' : Fin 128 => Ideal.cmp .ogt (st k) (st k') == 1#1) = fun k k' => decide (st k' < st k) := by
    funext k k'
    unfold Ideal.cmp
    by_cases hk : st k' < st k <;> simp [hk]
  rw [hB]
  set B : Fin 128 → Fin 128 → Bool := fun k k' => decide (st k' < st k) with hBd
  have hno : ∀ i j : Fin 128, i < j → st (sortedFrom B j) ≤ st (sortedFrom B i) := fun i j hij => by
    have := sortedFrom_noInversion B B (fun a b hab => by simp only [hBd, decide_eq_true_eq, decide_eq_false_iff_not, not_lt] at hab ⊢; exact hab.le)
      (fun _ _ hab => hab) (fun a b c hab hbc => by
        simp only [hBd, decide_eq_false_iff_not, not_lt] at hab hbc ⊢; exact hab.trans hbc) i j hij
    simpa [hBd] using this
  have hinj := sortedFrom_injective B
  let T : Finset (Fin 128) := univ.image fun i : Fin 45 => sortedFrom B (i.castLE (by decide))
  have hT : T.card = 45 := by
    rw [card_image_of_injective _ (fun a b hab => Fin.castLE_injective _ (hinj hab))]; simp
  have hTG : T ⊆ univ.filter fun v => st t₀ ≤ st v := by
    intro t ht
    by_contra hn
    simp only [mem_filter, mem_univ, true_and, not_le] at hn
    have hex : ∃ g ∈ univ.filter (fun v => st t₀ ≤ st v), g ∉ T := by
      by_contra hall
      push Not at hall
      have hsub : (univ.filter fun v => st t₀ ≤ st v) ⊆ T := fun g hg => hall g hg
      have heq := eq_of_subset_of_card_le hsub (by rw [hT, h])
      rw [← heq] at ht
      simp only [mem_filter, mem_univ, true_and] at ht
      exact absurd ht (not_le.mpr hn)
    obtain ⟨g, hg, hgT⟩ := hex
    simp only [mem_filter, mem_univ, true_and] at hg
    obtain ⟨j, rfl⟩ := sortedFrom_surjective B g
    obtain ⟨i, -, rfl⟩ := mem_image.mp ht
    have hj : (45 : ℕ) ≤ j.val := by
      by_contra hj
      exact hgT (mem_image.mpr ⟨⟨j.val, by omega⟩, mem_univ _, rfl⟩)
    have := hno (i.castLE (by decide)) j (by rw [Fin.lt_def]; exact lt_of_lt_of_le i.isLt hj)
    exact absurd (hg.trans this) (not_le.mpr hn)
  have hGT := eq_of_subset_of_card_le hTG (by rw [hT, h])
  have := Finset.ext_iff.mp hGT t
  simp only [T, mem_image, mem_univ, true_and, mem_filter] at this
  exact this

end Cert.Proof.Value
-- ==== Proof.Value.KernelSel.lean ====
/-
  The kernel's selection read at an index, over the extended reals.
-/
module

public import proofs.«01_k».proof.Proof.Value.Sorted
public import proofs.«01_k».proof.Proof.Ideal.Outcome
public import Idealize.ShloMosaic.Lib.Pointwise.Tactic
public import Idealize.ShloMosaic.Lib.Pointwise.Contract
public import Idealize.ShloMosaic.Lib.Pointwise.Reduce
public import Idealize.ShloMosaic.Lib.Pointwise.Reshape
public import Idealize.ShloMosaic.Lib.IndicatorCount
public import Idealize.ShloMosaic.PureOps.Ideal.Laws
public import Idealize.ShloMosaic.Lib.ValueIdx
public import Idealize.ShloMosaic.Lib.ValueLayoutCasts
public import Idealize.ShloMosaic.Lib.StableHlo.Predicate

@[expose] public section

set_option maxRecDepth 16384

noncomputable section

namespace Cert.Proof.Value

open Cert.KernelIdeal Cert.KernelIdeal.Gen Cert.Proof.Ideal
open Idealize.ShloMosaic

/-- The stability of a token: its low-pass part's size over the size of what the filter removed. -/
def stab (low tok : EReal) : EReal :=
  Ideal.div (max low (-low)) (max (low - tok) (-(low - tok)) + Ideal.ofBits .f32 0x358637BD#32)

theorem low_at (tok : FVec Ideal S256x128 .f32) (mt : FVec Ideal S256x256 .f32) (c : Fin 256) (t : Fin 128) :
    k0_pay39 (F := Ideal) tok mt (ix2 c t) = ∑ k : Fin 256, mt (ix2 c k) * tok (ix2 k t) := by
  refine (Ideal.matmul_apply₁_of dot_S256x256_S256x128_S256x128_1_0_0_1_n_n (a := 1) rfl (K := 256) rfl mt tok _ (ix2 c t)
    (fun k => ix2 c k) (fun k => ix2 k t) ?_ ?_).trans ?_
  · intro k; funext a; match a with | ⟨0, _⟩ => rfl | ⟨1, _⟩ => rfl
  · intro k; funext a; match a with | ⟨0, _⟩ => rfl | ⟨1, _⟩ => rfl
  · refine (congrArg (· + _) (?_ : _ = (0 : EReal))).trans (zero_add _)
    pointwise

theorem diff_at (tok : FVec Ideal S256x128 .f32) (mt : FVec Ideal S256x256 .f32) (c : Fin 256) (t : Fin 128) :
    (k0_pay40 (F := Ideal) tok mt (ix2 c t) : EReal) = (k0_pay39 (F := Ideal) tok mt (ix2 c t) : EReal) - (tok (ix2 c t) : EReal) := by
  unfold k0_pay40
  rfl

theorem below_at (tok : FVec Ideal S256x128 .f32) (mt : FVec Ideal S256x256 .f32) (c : Fin 256) (u v : Fin 128) :
    k0_pay41 (F := Ideal) tok mt (ix3 c u v) = Ideal.cmp .olt
      (stab (k0_pay39 (F := Ideal) tok mt (ix2 c v) : EReal) (tok (ix2 c v) : EReal))
      (stab (k0_pay39 (F := Ideal) tok mt (ix2 c u) : EReal) (tok (ix2 c u) : EReal)) := by
  unfold stab
  rw [← diff_at, ← diff_at]
  unfold k0_pay41
  generalize k0_pay39 (F := Ideal) tok mt = lo
  generalize k0_pay40 (F := Ideal) tok mt = di
  pointwise
  rfl

/-- How many tokens lie below token `u` in channel `c`. -/
def belowCount (b : IVec S256x128x128 1) (c : Fin 256) (u : Fin 128) : ℕ :=
  (Finset.univ.filter fun v : Fin 128 => b (ix3 c u v) = 1#1).card

theorem belowCount_le (b : IVec S256x128x128 1) (c : Fin 256) (u : Fin 128) : belowCount b c u ≤ 128 :=
  (Finset.card_le_univ _).trans (by simp)

theorem cast_col {α : Type} (x : S256.Idx → α) (c : Fin 256) :
    shapeCast S256x1 x shapeCasts_S256_S256x1 (ix2 c 0) = x (ix1 c) := by
  pointwise

/-- What holds at the start and is carried by every trip holds after the last. -/
theorem fold_keeps {σ : Type} {n : ℕ} (g : Fin n → σ → σ) (P : ℕ → σ → Prop) (init : σ) (h0 : P 0 init)
    (hs : ∀ (k : Fin n) s, P k.val s → P (k.val + 1) (g k s)) : P n (Scf.fold g init) := by
  rw [Scf.fold_eq]
  induction n with
  | zero => simpa using h0
  | succ n ih =>
    rw [List.finRange_succ_last, List.foldl_append, List.foldl_map]
    exact hs (Fin.last n) _ (ih (fun k => g k.castSucc) fun k => hs k.castSucc)

theorem toInt_small (n : ℕ) (h : n ≤ 128) : (BitVec.ofNat 32 n).toInt = (n : ℤ) := by
  rw [BitVec.toInt_eq_toNat_cond, BitVec.toNat_ofNat, Nat.mod_eq_of_lt (by omega), if_pos (by omega)]

theorem ofBool_decide (p : Prop) [Decidable p] : BitVec.ofBool (decide p) = 1#1 ↔ p := by
  by_cases h : p <;> simp [h]

theorem select_if {α : Type} (w : BitVec 1) (p : Prop) [Decidable p] (h : w = 1#1 ↔ p) (x y : α) :
    Scalar.select w x y = if p then x else y :=
  if_congr h rfl rfl

theorem select_one (b : BitVec 1) : (if b = 1 then 1#32 else 0#32) = b.setWidth 32 := by
  revert b; decide

theorem rank_at (b : IVec S256x128x128 1) (c : Fin 256) (u : Fin 128) :
    k0_pay42 b 1#32 0#32 (ix2 c u) = BitVec.ofNat 32 (belowCount b c u) := by
  refine (multiReductionI_eq_fold .add _ _ reduces_S256x128x128_S256x128 rfl _).trans ?_
  unfold belowCount
  rw [← IndicatorCount.fold_addi_setWidth_eq_card]
  refine (Shape.Reduces.fold_fiber_r3_a2 reduces_S256x128x128_S256x128 _ _ _ _).trans ?_
  refine Finset.fold_congr fun v _ => ?_
  exact select_one _

theorem rank_toInt (b : IVec S256x128x128 1) (c : Fin 256) (u : Fin 128) :
    (k0_pay42 b 1#32 0#32 (ix2 c u)).toInt = (belowCount b c u : ℤ) := by
  rw [rank_at]
  exact toInt_small _ (belowCount_le b c u)

/-- The middle of the interval in channel `c`. -/
def midOf (lo hi : IVec S256x1 32) (c : Fin 256) : BitVec 32 := (lo (ix2 c 0) + hi (ix2 c 0)).sshiftRight 1

theorem mid_at (lo hi : IVec S256x1 32) (c : Fin 256) : k0_pay45 lo hi (ix2 c 0) = midOf lo hi c := by
  unfold k0_pay45 midOf
  rfl

theorem sgt_at (b : IVec S256x128x128 1) (x : BitVec 32) (c : Fin 256) (u : Fin 128) :
    IntOp.cmpi .sgt (k0_pay42 b 1#32 0#32 (ix2 c u)) x = 1#1 ↔ x.toInt < (belowCount b c u : ℤ) := by
  rw [← rank_toInt]
  exact ofBool_decide _

theorem decide_at (b : IVec S256x128x128 1) (lo hi : IVec S256x1 32) (c : Fin 256) :
    k0_pay46 b 1#32 0#32 lo hi (ix2 c 0) = 1#1 ↔ 46 ≤ above (belowCount b c) (midOf lo hi c).toInt := by
  have hs : (shapeCast S256x1 (multiReductionI .add [1] S256
      (select (cmpi .sgt (k0_pay42 b 1#32 0#32) (broadcastTo S256x128 (k0_pay45 lo hi) broadcasts_S256x1_S256x128))
        (broadcast S256x128 1#32) (broadcast S256x128 0#32)) 0#32 reduces_S256x128_S256 rfl) shapeCasts_S256_S256x1) (ix2 c 0)
      = BitVec.ofNat 32 (above (belowCount b c) (midOf lo hi c).toInt) := by
    unfold above
    rw [cast_col]
    refine (multiReductionI_eq_fold .add _ _ reduces_S256x128_S256 rfl _).trans ?_
    refine (Shape.Reduces.fold_fiber_r2_a1 reduces_S256x128_S256 _ _ _ _).trans ?_
    have : (fun u => (midOf lo hi c).toInt < (belowCount b c u : ℤ))
        = fun u => IntOp.cmpi .sgt (k0_pay42 b 1#32 0#32 (ix2 c u)) (midOf lo hi c) = 1#1 :=
      funext fun u => propext (sgt_at b _ c u).symm
    simp only [this]
    rw [← IndicatorCount.fold_addi_setWidth_eq_card]
    refine Finset.fold_congr fun v _ => ?_
    rw [← mid_at]
    refine Eq.trans ?_ (select_one _)
    pointwise
    rfl
  have h128 : above (belowCount b c) (midOf lo hi c).toInt ≤ 128 := (Finset.card_le_univ _).trans (by simp)
  unfold k0_pay46
  show IntOp.cmpi .sge (shapeCast _ _ _ (ix2 c 0)) 46#32 = 1#1 ↔ _
  rw [hs]
  have := toInt_small _ h128
  refine (ofBool_decide _).trans ?_
  rw [this]
  exact (Int.ofNat_le (m := 46))

theorem bisect_brackets (b : IVec S256x128x128 1) (c : Fin 256) :
    Brackets (belowCount b c) 31 ((bisect b).1 (ix2 c 0)) ((bisect b).2 (ix2 c 0)) := by
  unfold bisect
  refine fold_keeps _ (fun i (a : IVec S256x1 32 × IVec S256x1 32) => Brackets (belowCount b c) i (a.1 (ix2 c 0)) (a.2 (ix2 c 0))) _
    (brackets_start _ (belowCount_le b c)) fun k a h => ?_
  have hs := brackets_step _ (belowCount_le b c) k.val k.isLt _ _ (midOf a.1 a.2 c) rfl h
  have e := decide_at b a.1 a.2 c
  have m := mid_at a.1 a.2 c
  have e1 : k0_pay47 b 1#32 0#32 a.1 a.2 (ix2 c 0)
      = if 46 ≤ above (belowCount b c) (midOf a.1 a.2 c).toInt then midOf a.1 a.2 c else a.1 (ix2 c 0) := by
    unfold k0_pay47
    show Scalar.select (k0_pay46 b 1#32 0#32 a.1 a.2 (ix2 c 0)) (k0_pay45 a.1 a.2 (ix2 c 0)) (a.1 (ix2 c 0)) = _
    rw [m]
    exact select_if _ _ e _ _
  have e2 : k0_pay48 b 1#32 0#32 a.1 a.2 (ix2 c 0)
      = if 46 ≤ above (belowCount b c) (midOf a.1 a.2 c).toInt then a.2 (ix2 c 0) else midOf a.1 a.2 c := by
    unfold k0_pay48
    show Scalar.select (k0_pay46 b 1#32 0#32 a.1 a.2 (ix2 c 0)) (a.2 (ix2 c 0)) (k0_pay45 a.1 a.2 (ix2 c 0)) = _
    rw [m]
    exact select_if _ _ e _ _
  have h' : Brackets (belowCount b c) (k.val + 1) (k0_pay47 b 1#32 0#32 a.1 a.2 (ix2 c 0))
      (k0_pay48 b 1#32 0#32 a.1 a.2 (ix2 c 0)) := by
    rw [e1, e2]
    exact hs
  dsimp only
  exact h'

theorem selected_at (b : IVec S256x128x128 1) (c : Fin 256) (h : above (belowCount b c) 82 = 45) (u : Fin 128) :
    IntOp.cmpi .sgt (k0_pay42 b 1#32 0#32 (ix2 c u)) ((bisect b).2 (ix2 c 0)) = 1#1 ↔ 82 < belowCount b c u :=
  (sgt_at b _ c u).trans (brackets_end _ (belowCount_le b c) _ _ (bisect_brackets b c) h u)

end Cert.Proof.Value
end
-- ==== Proof.Value.Tables.lean ====
/-
  The constant tables of the three programs, and the numbers their patterns denote.
-/
module

public import proofs.«01_k».proof.Proof.Value.KernelSel
public import proofs.«01_k».proof.KernelIdeal
public import proofs.«01_k».proof.ReferenceIdeal
public import proofs.«01_k».proof.Pre_clear_cut
public import Mathlib.Tactic.NormNum
public import Mathlib.Tactic.FinCases

@[expose] public section

set_option maxRecDepth 100000

noncomputable section

namespace Cert.Proof.Value

open Idealize.ShloMosaic

/-- The low-pass table is the same in the kernel, the reference and the precondition. -/
theorem table_reference : Cert.KernelIdeal.lit0 = Cert.ReferenceIdeal.lit0 := rfl
theorem table_pre : Cert.KernelIdeal.lit0 = Cert.Pre_clear_cut.lit0 := rfl

theorem table5 : Cert.ReferenceIdeal.lit5 = Cert.ReferenceIdeal.lit1 := rfl
theorem table6 : Cert.ReferenceIdeal.lit6 = Cert.ReferenceIdeal.lit2 := rfl
theorem table7 : Cert.ReferenceIdeal.lit7 = Cert.ReferenceIdeal.lit3 := rfl
theorem table8 : Cert.ReferenceIdeal.lit8 = Cert.ReferenceIdeal.lit4 := rfl

/-- The pattern of `k / 16`. -/
def pat (k : ℕ) : BitVec 32 :=
  [0x00000000#32, 0x3D800000#32, 0x3E000000#32, 0x3E400000#32, 0x3E800000#32, 0x3EA00000#32, 0x3EC00000#32, 0x3EE00000#32,
    0x3F000000#32, 0x3F100000#32, 0x3F200000#32, 0x3F300000#32, 0x3F400000#32, 0x3F500000#32, 0x3F600000#32, 0x3F700000#32,
    0x3F800000#32].getD k 0#32

theorem pat_value (k : ℕ) (hk : k < 17) : Ideal.ofBits .f32 (pat k) = (((k : ℝ) / 16 : ℝ) : EReal) := by
  interval_cases k <;> simp [pat, Ideal.ofBits, Ideal.ieee, -EReal.coe_mul] <;> norm_num

/-- The lower and the upper band a row of the image lies between, and the sixteenths of the lower one it takes. -/
def band0 (h : Fin 32) : Fin 4 := ⟨if h.val < 4 then 0 else (h.val - 4) / 8, by split <;> omega⟩
def band1 (h : Fin 32) : Fin 4 := ⟨min 3 ((if h.val < 4 then 0 else (h.val - 4) / 8) + 1), by omega⟩
def part0 (h : Fin 32) : ℕ := if h.val < 4 then 16 else 15 - 2 * ((h.val - 4) % 8)

theorem part0_le (h : Fin 32) : part0 h ≤ 16 := by unfold part0; split <;> omega

theorem ref_band0 : ∀ h : Fin 32, Cert.ReferenceIdeal.lit1 h = BitVec.ofNat 32 (band0 h).val := by decide +kernel
theorem ref_band1 : ∀ h : Fin 32, Cert.ReferenceIdeal.lit3 h = BitVec.ofNat 32 (band1 h).val := by decide +kernel
theorem ref_part0 : ∀ h : Fin 32, Cert.ReferenceIdeal.lit2 h = pat (part0 h) := by decide +kernel
theorem ref_part1 : ∀ h : Fin 32, Cert.ReferenceIdeal.lit4 h = pat (16 - part0 h) := by decide +kernel

theorem ker_part : ∀ (b : Fin 4) (h : Fin 32) (w : Fin 16),
    Cert.KernelIdeal.lit2 ⟨512 * b.val + (16 * h.val + w.val), by omega⟩
      = pat ((if b = band0 h then part0 h else 0) + (if b = band1 h then 16 - part0 h else 0)) := by decide +kernel

theorem ker_pool : ∀ (j : Fin 512) (s : Fin 4),
    Cert.KernelIdeal.lit1 ⟨4 * j.val + s.val, by omega⟩ = if j.val / 128 = s.val then 0x3C000000#32 else 0x00000000#32 := by
  decide +kernel

theorem val_16 : Ideal.ofBits .f32 0x41800000#32 = ((16 : ℝ) : EReal) := by
  simp [Ideal.ofBits, Ideal.ieee, -EReal.coe_mul]; norm_num
theorem val_8 : Ideal.ofBits .f32 0x41000000#32 = ((8 : ℝ) : EReal) := by
  simp [Ideal.ofBits, Ideal.ieee, -EReal.coe_mul]; norm_num
theorem val_256 : Ideal.ofBits .f32 0x43800000#32 = ((256 : ℝ) : EReal) := by
  simp [Ideal.ofBits, Ideal.ieee, -EReal.coe_mul]; norm_num
theorem val_256th : Ideal.ofBits .f32 0x3B800000#32 = ((1 / 256 : ℝ) : EReal) := by
  simp [Ideal.ofBits, Ideal.ieee, -EReal.coe_mul]; norm_num
theorem val_128th : Ideal.ofBits .f32 0x3C000000#32 = ((1 / 128 : ℝ) : EReal) := by
  simp [Ideal.ofBits, Ideal.ieee, -EReal.coe_mul]; norm_num
theorem val_low : Ideal.ofBits .f32 0x3F400000#32 = ((3 / 4 : ℝ) : EReal) := by
  simp [Ideal.ofBits, Ideal.ieee, -EReal.coe_mul]; norm_num
theorem val_high : Ideal.ofBits .f32 0x3FA00000#32 = ((5 / 4 : ℝ) : EReal) := by
  simp [Ideal.ofBits, Ideal.ieee, -EReal.coe_mul]; norm_num
theorem val_inf : Ideal.ofBits .f32 0x7F800000#32 = ⊤ := by
  simp [Ideal.ofBits, Ideal.ieee]

end Cert.Proof.Value
end
-- ==== Proof.Value.RefStages.lean ====
/-
  The reference's result in named stages.
-/
module

public import proofs.«01_k».proof.Proof.Value.Tables
public import proofs.«01_k».proof.Proof.Gen.ReferenceIdeal.Run

@[expose] public section

set_option maxRecDepth 16384

noncomputable section

namespace Cert.Proof.Value

open Cert.ReferenceIdeal Cert.ReferenceIdeal.Gen Cert.ReferenceIdeal.Value
open Idealize.ShloMosaic Idealize.ShloMosaic.TcCoe Idealize.SL.Sem

variable {F : FTy → Type} [FloatOps F]

/-- The tokens: every slab and band averaged. -/
def refTok (X : FVec F S8x256x32x32x16 .f32) : FVec F S8x128x256 .f32 :=
  (shapeCast S8x128x256 (transpose S8x32x4x256 [0, 1, 3, 2] (shapeCast S8x32x256x4 (Host.divf (Host.reduceAdd (shapeCast
    S256x256x4x8 (transpose S8x32x256x32 [0, 2, 1, 3] (Host.divf (Host.reduceAdd X (constant S_ .f32 0x00000000#32)
    reducesTo_S8x256x32x32x16_S8x256x32x32_d4 h_S_) (broadcastInDim S8x256x32x32 ![] bcast_S_S8x256x32x32 (constant S_
    .f32 0x41800000#32))) transposes_S8x256x32x32_S8x32x256x32_0_2_1_3) shapeCasts_S8x32x256x32_S256x256x4x8) (constant
    S_ .f32 0x00000000#32) reducesTo_S256x256x4x8_S256x256x4_d3 h_S_) (broadcastInDim S256x256x4 ![] bcast_S_S256x256x4
    (constant S_ .f32 0x41000000#32))) shapeCasts_S256x256x4_S8x32x256x4) transposes_S8x32x256x4_S8x32x4x256_0_1_3_2)
    shapeCasts_S8x32x4x256_S8x128x256)

/-- The low-pass part of the tokens. -/
def refLow (X : FVec F S8x256x32x32x16 .f32) : FVec F S8x128x256 .f32 :=
  (Host.dotGeneral dot_S8x128x256_S256x256_S8x128x256_2_1_01_0_n_n none (refTok X) ((fun i => FloatOps.ofBits .f32 (lit0
    (S256x256.rowMajor i)))))

/-- The stability of every token. -/
def refSt (X : FVec F S8x256x32x32x16 .f32) : FVec F S8x256x128 .f32 :=
  (transpose S8x256x128 [0, 2, 1] (Host.divf (Host.absf (refLow X)) (addf (Host.absf (subf (refLow X) (refTok X)))
    (broadcastInDim S8x128x256 ![] bcast_S_S8x128x256 (constant S_ .f32 0x358637BD#32))))
    transposes_S8x128x256_S8x256x128_0_2_1)

/-- One where a channel picks a token, zero elsewhere. -/
def refSel (X : FVec F S8x256x32x32x16 .f32) : FVec F S8x256x128 .f32 :=
  (uitofp .f32 (Host.reduce IntOp.ori (cmpi .eq (broadcastInDim S8x256x45x128 ![0, 1, 2, 3]
    bcast_S8x256x45x1_S8x256x45x128_0_1_2_3 (broadcastInDim S8x256x45x1 ![0, 1, 2] bcast_S8x256x45_S8x256x45x1_0_1_2
    ((Host.topK S8x256x45 2 (FloatOps.cmpfTotal .gt) (refSt X) sliceFits_S8x256x128_S8x256x45).2))) (broadcastInDim
    S8x256x45x128 ![0, 1, 2, 3] bcast_S1x1x1x128_S8x256x45x128_0_1_2_3 (broadcastInDim S1x1x1x128 ![3]
    bcast_S128_S1x1x1x128_3 (iotaInDim S128 32 0)))) (constantI S_ 1 0#1) reducesTo_S8x256x45x128_S8x256x128_d2 h_S_))

/-- The share of the channels that pick a token. -/
def refVote (X : FVec F S8x256x32x32x16 .f32) : FVec F S8x128 .f32 :=
  (Host.divf (Host.reduceAdd (refSel X) (constant S_ .f32 0x00000000#32) reducesTo_S8x256x128_S8x128_d1 h_S_)
    (broadcastInDim S8x128 ![] bcast_S_S8x128 (constant S_ .f32 0x43800000#32)))

/-- The gate of every token. -/
def refGate (X : FVec F S8x256x32x32x16 .f32) (G : FVec F S_ .f32) : FVec F S8x128 .f32 :=
  (minimumf (maximumf (addf (broadcastInDim S8x128 ![] bcast_S_S8x128 (constant S_ .f32 0x3F800000#32)) (mulf
    (broadcastInDim S8x128 ![] bcast_S_S8x128 (Host.tanh G)) (subf (Host.divf (refVote X) (broadcastInDim S8x128 ![0, 1]
    bcast_S8x1_S8x128_0_1 (maximumf (Host.divf (broadcastInDim S8x1 ![0] bcast_S8_S8x1_0 (Host.reduceAdd (refVote X)
    (constant S_ .f32 0x00000000#32) reducesTo_S8x128_S8_d1 h_S_)) (broadcastInDim S8x1 ![] bcast_S_S8x1 (constant S_
    .f32 0x43000000#32))) (broadcastInDim S8x1 ![] bcast_S_S8x1 (constant S_ .f32 0x358637BD#32))))) (broadcastInDim
    S8x128 ![] bcast_S_S8x128 (constant S_ .f32 0x3F800000#32))))) (broadcastInDim S8x128 ![] bcast_S_S8x128 (constant
    S_ .f32 0x3F400000#32))) (broadcastInDim S8x128 ![] bcast_S_S8x128 (constant S_ .f32 0x3FA00000#32)))

/-- The residual of every token, by slab and band. -/
def refDiff (X : FVec F S8x256x32x32x16 .f32) : FVec F S8x256x32x4 .f32 :=
  (transpose S8x256x32x4 [0, 3, 1, 2] (shapeCast S8x32x4x256 (subf (refLow X) (refTok X))
    shapeCasts_S8x128x256_S8x32x4x256) transposes_S8x32x4x256_S8x256x32x4_0_3_1_2)

/-- The gate between the bands. -/
def refGateRow (X : FVec F S8x256x32x32x16 .f32) (G : FVec F S_ .f32) : FVec F S8x1x32x32x1 .f32 :=
  (shapeCast S8x1x32x32x1 (addf (mulf (Host.gather gather_S8x32x4_S32x1_S8x32x32_01_2_n_n_2_1_8321 (shapeCast S8x32x4
    (refGate X G) shapeCasts_S8x128_S8x32x4) (broadcastInDim S32x1 ![0] bcast_S32_S32x1_0 (select (constantI S32 1 0#1)
    (addi ((fun i => lit1 (S32.rowMajor i))) (broadcastInDim S32 ![] bcast_S_S32 (constantI S_ 32 4#32))) ((fun i =>
    lit1 (S32.rowMajor i)))))) (broadcastInDim S8x32x32 ![0, 1, 2] bcast_S1x1x32_S8x32x32_0_1_2 (broadcastInDim S1x1x32
    ![2] bcast_S32_S1x1x32_2 ((fun i => FloatOps.ofBits .f32 (lit2 (S32.rowMajor i))))))) (mulf (Host.gather
    gather_S8x32x4_S32x1_S8x32x32_01_2_n_n_2_1_8321 (shapeCast S8x32x4 (refGate X G) shapeCasts_S8x128_S8x32x4)
    (broadcastInDim S32x1 ![0] bcast_S32_S32x1_0 (select (constantI S32 1 0#1) (addi ((fun i => lit3 (S32.rowMajor i)))
    (broadcastInDim S32 ![] bcast_S_S32 (constantI S_ 32 4#32))) ((fun i => lit3 (S32.rowMajor i)))))) (broadcastInDim
    S8x32x32 ![0, 1, 2] bcast_S1x1x32_S8x32x32_0_1_2 (broadcastInDim S1x1x32 ![2] bcast_S32_S1x1x32_2 ((fun i =>
    FloatOps.ofBits .f32 (lit4 (S32.rowMajor i)))))))) shapeCasts_S8x32x32_S8x1x32x32x1)

/-- The residual between the bands. -/
def refDiffRow (X : FVec F S8x256x32x32x16 .f32) : FVec F S8x256x32x32 .f32 :=
  (addf (mulf (Host.gather gather_S8x256x32x4_S32x1_S8x256x32x32_012_3_n_n_3_1_8256321 (refDiff X) (broadcastInDim S32x1
    ![0] bcast_S32_S32x1_0 (select (constantI S32 1 0#1) (addi ((fun i => lit5 (S32.rowMajor i))) (broadcastInDim S32
    ![] bcast_S_S32 (constantI S_ 32 4#32))) ((fun i => lit5 (S32.rowMajor i)))))) (broadcastInDim S8x256x32x32 ![0, 1,
    2, 3] bcast_S1x1x1x32_S8x256x32x32_0_1_2_3 (broadcastInDim S1x1x1x32 ![3] bcast_S32_S1x1x1x32_3 ((fun i =>
    FloatOps.ofBits .f32 (lit6 (S32.rowMajor i))))))) (mulf (Host.gather
    gather_S8x256x32x4_S32x1_S8x256x32x32_012_3_n_n_3_1_8256321 (refDiff X) (broadcastInDim S32x1 ![0] bcast_S32_S32x1_0
    (select (constantI S32 1 0#1) (addi ((fun i => lit7 (S32.rowMajor i))) (broadcastInDim S32 ![] bcast_S_S32
    (constantI S_ 32 4#32))) ((fun i => lit7 (S32.rowMajor i)))))) (broadcastInDim S8x256x32x32 ![0, 1, 2, 3]
    bcast_S1x1x1x32_S8x256x32x32_0_1_2_3 (broadcastInDim S1x1x1x32 ![3] bcast_S32_S1x1x1x32_3 ((fun i => FloatOps.ofBits
    .f32 (lit8 (S32.rowMajor i))))))))

/-- The result. -/
def refOut (X : FVec F S8x256x32x32x16 .f32) (G : FVec F S_ .f32) (R : FVec F S1x256x1x1x1 .f32) : FVec F S8x256x32x32x16 .f32 :=
  addf (mulf X (broadcastInDim S8x256x32x32x16 ![0, 1, 2, 3, 4] bcast_S8x1x32x32x1_S8x256x32x32x16_0_1_2_3_4 (refGateRow
    X G))) (broadcastInDim S8x256x32x32x16 ![0, 1, 2, 3, 4] bcast_S8x256x32x32x1_S8x256x32x32x16_0_1_2_3_4 (mulf
    (broadcastInDim S8x256x32x32x1 ![0, 1, 2, 3, 4] bcast_S1x256x1x1x1_S8x256x32x32x1_0_1_2_3_4 R) (broadcastInDim
    S8x256x32x32x1 ![0, 1, 2, 3] bcast_S8x256x32x32_S8x256x32x32x1_0_1_2_3 (refDiffRow X))))

/-- The run's result is the last stage at the arguments. -/
theorem refOut_eq (m : (ℓ : Loc nD τ sig) → Buf (Elt F) ℓ) (c : Dev nD) :
    res_main_v94 m c = refOut (m ((c.tc : Thread nD τ).loc main_arg0)) (m ((c.tc : Thread nD τ).loc main_arg1))
      (m ((c.tc : Thread nD τ).loc main_arg2)) := by
  unfold res_main_v94
  rfl

end Cert.Proof.Value
end
-- ==== Proof.Value.RefAt.lean ====
/-
  The reference's stages read at an index, over the extended reals.
-/
module

public import proofs.«01_k».proof.Proof.Value.RefStages
public import Idealize.ShloMosaic.Lib.Pointwise.Sums
public import Idealize.ShloMosaic.Lib.IdealHost

@[expose] public section

set_option maxRecDepth 16384

noncomputable section

namespace Cert.Proof.Value

open Cert.ReferenceIdeal Cert.ReferenceIdeal.Gen
open Idealize.ShloMosaic

variable (X : FVec Ideal S8x256x32x32x16 .f32)

/-- A slab and band's average. -/
def tkn (n : Fin 8) (c : Fin 256) (s : Fin 32) (b : Fin 4) : EReal :=
  Ideal.div (∑ q : Fin 8, Ideal.div (∑ w : Fin 16, (X (ix5 n c s ⟨b.val * 8 + q.val, by omega⟩ w) : EReal)) (16 : ℝ)) (8 : ℝ)

theorem refTok_at (n : Fin 8) (t : Fin 128) (c : Fin 256) :
    refTok X (ix3 n t c) = tkn X n c ⟨t.val / 4, by omega⟩ ⟨t.val % 4, by omega⟩ := by
  unfold refTok tkn
  rw [← val_16, ← val_8]
  pointwise
  have e : ∀ h, (⟨(n.val * 32 + t.val / 4) % 32, h⟩ : Fin 32) = ⟨t.val / 4, by omega⟩ :=
    fun h => Fin.ext (by show (n.val * 32 + t.val / 4) % 32 = t.val / 4; omega)
  simp only [e]

theorem refLow_at (n : Fin 8) (t : Fin 128) (c : Fin 256) :
    (refLow X (ix3 n t c) : EReal)
      = ∑ k : Fin 256, (refTok X (ix3 n t k) : EReal) * Ideal.ofBits .f32 (lit0 (S256x256.rowMajor (ix2 c k))) := by
  unfold refLow
  generalize refTok X = tok
  pointwise

theorem refSt_at (n : Fin 8) (t : Fin 128) (c : Fin 256) :
    (refSt X (ix3 n c t) : EReal) = stab (refLow X (ix3 n t c) : EReal) (refTok X (ix3 n t c) : EReal) := by
  unfold refSt stab
  generalize refTok X = tok
  generalize refLow X = low
  pointwise
  rfl

theorem refDiff_at (n : Fin 8) (c : Fin 256) (s : Fin 32) (b : Fin 4) :
    (refDiff X (ix4 n c s b) : EReal) = (refLow X (ix3 n ⟨s.val * 4 + b.val, by omega⟩ c) : EReal)
      - (refTok X (ix3 n ⟨s.val * 4 + b.val, by omega⟩ c) : EReal) := by
  unfold refDiff
  generalize refTok X = tok
  generalize refLow X = low
  pointwise

theorem refVote_at (n : Fin 8) (t : Fin 128) :
    (refVote X (ix2 n t) : EReal) = (∑ c : Fin 256, (refSel X (ix3 n c t) : EReal)) * ((1 / 256 : ℝ) : EReal) := by
  unfold refVote
  generalize refSel X = sel
  pointwise
  rw [val_256, Ideal.div_coe (by norm_num)]

theorem fold_ori {n : ℕ} (f : Fin n → BitVec 1) :
    (Finset.univ : Finset (Fin n)).fold IntOp.ori 0#1 f = 1#1 ↔ ∃ i, f i = 1#1 := by
  have key : ∀ s : Finset (Fin n), s.fold IntOp.ori 0#1 f = 1#1 ↔ ∃ i ∈ s, f i = 1#1 := by
    intro s
    induction s using Finset.induction_on with
    | empty => simp
    | insert a s ha ih =>
      rw [Finset.fold_insert ha]
      have h2 : ∀ x y : BitVec 1, IntOp.ori x y = 1#1 ↔ x = 1#1 ∨ y = 1#1 := by decide
      rw [h2, ih]
      simp
  simpa using key Finset.univ

theorem iota_along (J : S8x256x128.Idx) (q : Fin 128) :
    iotaInDim S8x256x128 32 2 (J.along 2 q) = BitVec.ofNat 32 q.val := rfl

theorem top_at (st : FVec Ideal S8x256x128 .f32) (n : Fin 8) (c : Fin 256) (i : Fin 45) :
    (Host.topK S8x256x45 2 (FloatOps.cmpfTotal (F := Ideal) .gt) st sliceFits_S8x256x128_S8x256x45).2 (ix3 n c i)
      = BitVec.ofNat 32 (sortedFrom (fun k k' : Fin 128 => Ideal.cmp .ogt (st (ix3 n c k) : EReal) (st (ix3 n c k') : EReal) == 1#1)
          (i.castLE (by decide))).val := by
  have along : ∀ (J : S8x256x128.Idx), J 0 = n → J 1 = c → ∀ k : Fin 128, J.along 2 k = ix3 n c k := by
    intro J h0 h1 k
    funext a; match a with | ⟨0, _⟩ => exact h0 | ⟨1, _⟩ => exact h1 | ⟨2, _⟩ => rfl
  have h2 : 2 < S8x256x128.rank := by decide
  have gen : ∀ J : S8x256x128.Idx, J 0 = n → J 1 = c → J 2 = i.castLE (by decide) →
      iotaInDim S8x256x128 32 ⟨2, h2⟩ (J.along ⟨2, h2⟩ (sortedFrom (fun k k' => FloatOps.cmpfTotal (F := Ideal) .gt
        (st (J.along ⟨2, h2⟩ k)) (st (J.along ⟨2, h2⟩ k')) == 1#1) (J ⟨2, h2⟩)))
      = BitVec.ofNat 32 (sortedFrom (fun k k' : Fin 128 => Ideal.cmp .ogt (st (ix3 n c k) : EReal) (st (ix3 n c k') : EReal) == 1#1)
          (i.castLE (by decide))).val := by
    intro J h0 h1 h2
    have e : (fun k k' : Fin 128 => FloatOps.cmpfTotal (F := Ideal) .gt (st (J.along 2 k)) (st (J.along 2 k')) == 1#1)
        = fun k k' : Fin 128 => Ideal.cmp .ogt (st (ix3 n c k) : EReal) (st (ix3 n c k') : EReal) == 1#1 := by
      funext k k'
      rw [along J h0 h1 k, along J h0 h1 k']
      rfl
    refine (iota_along J _).trans ?_
    refine (congrArg (fun f : Fin 128 → Fin 128 → Bool => BitVec.ofNat 32 (sortedFrom f (J 2)).val) e).trans ?_
    exact congrArg (fun q : Fin 128 => BitVec.ofNat 32
      (sortedFrom (fun k k' : Fin 128 => Ideal.cmp .ogt (st (ix3 n c k) : EReal) (st (ix3 n c k') : EReal) == 1#1) q).val) h2
  unfold Host.topK Host.sort2
  simp only [h2, dif_pos]
  unfold extractStridedSlice
  exact gen _ (Fin.ext (Nat.zero_add _)) (Fin.ext (Nat.zero_add _)) (Fin.ext (Nat.zero_add _))

theorem refSel_at (n : Fin 8) (c : Fin 256) (t₀ t : Fin 128)
    (h : (Finset.univ.filter fun v : Fin 128 => (refSt X (ix3 n c t₀) : EReal) ≤ (refSt X (ix3 n c v) : EReal)).card = 45) :
    (refSel X (ix3 n c t) : EReal) = if (refSt X (ix3 n c t₀) : EReal) ≤ (refSt X (ix3 n c t) : EReal) then 1 else 0 := by
  unfold refSel
  generalize refSt X = st at h ⊢
  pointwise
  simp only [top_at]
  have key := sorted_cut (fun k => (st (ix3 n c k) : EReal)) t₀ h t
  have e : (Finset.univ : Finset (Fin 45)).fold IntOp.ori 0#1 (fun x => IntOp.cmpi .eq (BitVec.ofNat 32
      (sortedFrom (fun k k' : Fin 128 => Ideal.cmp .ogt (st (ix3 n c k) : EReal) (st (ix3 n c k') : EReal) == 1#1)
          (x.castLE (by decide))).val) (BitVec.ofNat 32 t.val)) = 1#1 ↔ (st (ix3 n c t₀) : EReal) ≤ (st (ix3 n c t) : EReal) := by
    rw [fold_ori, ← key]
    refine exists_congr fun x => (ofBool_decide _).trans ?_
    generalize sortedFrom _ _ = a
    constructor
    · intro q
      have q' := congrArg BitVec.toNat q
      rw [BitVec.toNat_ofNat, BitVec.toNat_ofNat, Nat.mod_eq_of_lt (by omega), Nat.mod_eq_of_lt (by omega)] at q'
      exact Fin.ext q'
    · rintro rfl; rfl
  by_cases hs : (st (ix3 n c t₀) : EReal) ≤ (st (ix3 n c t) : EReal)
  · rw [if_pos hs, e.2 hs]
    show (((1#1 : BitVec 1).toNat : ℝ) : EReal) = 1
    norm_num
  · rw [if_neg hs]
    have h0 : ∀ x : BitVec 1, ¬ x = 1#1 → x = 0#1 := by decide
    rw [h0 _ fun q => hs (e.1 q)]
    show (((0#1 : BitVec 1).toNat : ℝ) : EReal) = 0
    norm_num

theorem clamp_band (b : Fin 4) : min (BitVec.ofNat 32 b.val).toInt.toNat 3 = b.val := by
  revert b; decide

theorem gather_gate (x : S8x32x4.Idx → EReal) (idx : IVec S32x1 32) (n : Fin 8) (s h : Fin 32) (b : Fin 4)
    (hb : idx (ix2 h 0) = BitVec.ofNat 32 b.val) :
    Host.gather gather_S8x32x4_S32x1_S8x32x32_01_2_n_n_2_1_8321 x idx (ix3 n s h) = x (ix3 n s b) := by
  unfold Host.gather
  congr 1
  funext a
  match a with
  | ⟨0, _⟩ => exact Fin.ext (by show 0 + 0 + n.val = n.val; omega)
  | ⟨1, _⟩ => exact Fin.ext (by show 0 + 0 + s.val = s.val; omega)
  | ⟨2, _⟩ =>
    refine Fin.ext ?_
    show min (idx _).toInt.toNat 3 + 0 + 0 = b.val
    refine Eq.trans (congrArg (fun q : BitVec 32 => min q.toInt.toNat 3 + 0 + 0) (Eq.trans (congrArg idx ?_) hb)) (clamp_band b)
    funext d; match d with | ⟨0, _⟩ => rfl | ⟨1, _⟩ => rfl

theorem gather_diff (x : S8x256x32x4.Idx → EReal) (idx : IVec S32x1 32) (n : Fin 8) (c : Fin 256) (s h : Fin 32) (b : Fin 4)
    (hb : idx (ix2 h 0) = BitVec.ofNat 32 b.val) :
    Host.gather gather_S8x256x32x4_S32x1_S8x256x32x32_012_3_n_n_3_1_8256321 x idx (ix4 n c s h) = x (ix4 n c s b) := by
  unfold Host.gather
  congr 1
  funext a
  match a with
  | ⟨0, _⟩ => exact Fin.ext (by show 0 + 0 + n.val = n.val; omega)
  | ⟨1, _⟩ => exact Fin.ext (by show 0 + 0 + c.val = c.val; omega)
  | ⟨2, _⟩ => exact Fin.ext (by show 0 + 0 + s.val = s.val; omega)
  | ⟨3, _⟩ =>
    refine Fin.ext ?_
    show min (idx _).toInt.toNat 3 + 0 + 0 = b.val
    refine Eq.trans (congrArg (fun q : BitVec 32 => min q.toInt.toNat 3 + 0 + 0) (Eq.trans (congrArg idx ?_) hb)) (clamp_band b)
    funext d; match d with | ⟨0, _⟩ => rfl | ⟨1, _⟩ => rfl

/-- The gate of a token from its vote and the mean vote. -/
def gateVal (G v mean : EReal) : EReal :=
  min (max (1 + Ideal.tanh G * (Ideal.div v (max mean (Ideal.ofBits .f32 0x358637BD#32)) - 1)) ((3 / 4 : ℝ) : EReal)) ((5 / 4 : ℝ) : EReal)

theorem refGate_at (G : FVec Ideal S_ .f32) (n : Fin 8) (t : Fin 128) :
    (refGate X G (ix2 n t) : EReal) = gateVal (G ix0 : EReal) (refVote X (ix2 n t) : EReal)
      (Ideal.div (∑ u : Fin 128, (refVote X (ix2 n u) : EReal)) (Ideal.ofBits .f32 0x43000000#32)) := by
  unfold refGate gateVal
  rw [← val_low, ← val_high]
  generalize refVote X = vote
  pointwise

theorem row32 (h : Fin 32) : S32.rowMajor (ix1 h) = h := Fin.ext (rowMajor_val1 _)

theorem index_at (L : Fin 32 → BitVec 32) (h : Fin 32) :
    broadcastInDim S32x1 ![0] bcast_S32_S32x1_0 (select (constantI S32 1 0#1)
      (addi (fun i => L (S32.rowMajor i)) (broadcastInDim S32 ![] bcast_S_S32 (constantI S_ 32 4#32)))
      fun i => L (S32.rowMajor i)) (ix2 h 0) = L h := by
  pointwise
  rw [row32]
  rfl

theorem refGateRow_at (G : FVec Ideal S_ .f32) (n : Fin 8) (s h : Fin 32) :
    (refGateRow X G (ix5 n 0 s h 0) : EReal)
      = (refGate X G (ix2 n ⟨s.val * 4 + (band0 h).val, by omega⟩) : EReal) * (((part0 h : ℝ) / 16 : ℝ) : EReal)
        + (refGate X G (ix2 n ⟨s.val * 4 + (band1 h).val, by omega⟩) : EReal) * (((16 - part0 h : ℕ) : ℝ) / 16 : ℝ) := by
  unfold refGateRow
  generalize refGate X G = gate
  pointwise
  rw [gather_gate _ _ n s h (band0 h) ((index_at lit1 h).trans (ref_band0 h)),
    gather_gate _ _ n s h (band1 h) ((index_at lit3 h).trans (ref_band1 h)), row32, ref_part0, ref_part1,
    pat_value _ (by have := part0_le h; omega), pat_value _ (by omega)]
  pointwise

theorem refDiffRow_at (n : Fin 8) (c : Fin 256) (s h : Fin 32) :
    (refDiffRow X (ix4 n c s h) : EReal)
      = (refDiff X (ix4 n c s (band0 h)) : EReal) * (((part0 h : ℝ) / 16 : ℝ) : EReal)
        + (refDiff X (ix4 n c s (band1 h)) : EReal) * (((16 - part0 h : ℕ) : ℝ) / 16 : ℝ) := by
  unfold refDiffRow
  generalize refDiff X = d
  rw [table5, table6, table7, table8]
  pointwise
  rw [gather_diff _ _ n c s h (band0 h) ((index_at lit1 h).trans (ref_band0 h)),
    gather_diff _ _ n c s h (band1 h) ((index_at lit3 h).trans (ref_band1 h)), row32, ref_part0, ref_part1,
    pat_value _ (by have := part0_le h; omega), pat_value _ (by omega)]

theorem refOut_at (G : FVec Ideal S_ .f32) (R : FVec Ideal S1x256x1x1x1 .f32) (n : Fin 8) (c : Fin 256) (s h : Fin 32) (w : Fin 16) :
    (refOut X G R (ix5 n c s h w) : EReal) = (X (ix5 n c s h w) : EReal) * (refGateRow X G (ix5 n 0 s h 0) : EReal)
      + (R (ix5 0 c 0 0 0) : EReal) * (refDiffRow X (ix4 n c s h) : EReal) := by
  unfold refOut
  generalize refGateRow X G = g
  generalize refDiffRow X = d
  pointwise

end Cert.Proof.Value
end
-- ==== Proof.Value.PreAt.lean ====
/-
  The precondition decoded: finite inputs, and in every channel a stability that exactly 45 tokens reach.
-/
module

public import proofs.«01_k».proof.Proof.Value.RefAt
public import proofs.«01_k».proof.Pre_clear_cut
public import Idealize.ShloMosaic.Lib.ReduceAll

@[expose] public section

set_option maxRecDepth 16384

noncomputable section

namespace Cert.Proof.Value

open Idealize.ShloMosaic

/-- The side conditions of the precondition's operations. -/
theorem preFacts : Cert.Pre_clear_cut.Facts where
  reducesTo_S8x256x32x32x16_S8x256x32x32_d4 := by decide
  h_S_ := by decide
  bcast_S_S8x256x32x32 := by decide
  transposes_S8x256x32x32_S8x32x256x32_0_2_1_3 := by decide
  shapeCasts_S8x32x256x32_S256x256x4x8 := by decide
  reducesTo_S256x256x4x8_S256x256x4_d3 := by decide
  bcast_S_S256x256x4 := by decide
  shapeCasts_S256x256x4_S8x32x256x4 := by decide
  transposes_S8x32x256x4_S8x32x4x256_0_1_3_2 := by decide
  shapeCasts_S8x32x4x256_S8x128x256 := by decide
  bcast_S8x128x256_S8x128x1x256_0_1_3 := by decide
  bcast_S256x256_S1x1x256x256_2_3 := by decide
  bcast_S8x128x1x256_S8x128x256x256_0_1_2_3 := by decide
  bcast_S1x1x256x256_S8x128x256x256_0_1_2_3 := by decide
  reducesTo_S8x128x256x256_S8x128x256_d3 := by decide
  bcast_S_S8x128x256 := by decide
  transposes_S8x128x256_S8x256x128_0_2_1 := by decide
  bcast_S8x256x128_S8x256x1x128_0_1_3 := by decide
  bcast_S8x256x128_S8x256x128x1_0_1_2 := by decide
  bcast_S8x256x1x128_S8x256x128x128_0_1_2_3 := by decide
  bcast_S8x256x128x1_S8x256x128x128_0_1_2_3 := by decide
  natLt_1_32 := by decide
  reducesTo_S8x256x128x128_S8x256x128_d3 := by decide
  bcast_S_S8x256x128 := by decide
  reducesTo_S8x256x128_S8x256_d2 := by decide
  reducesTo_S8x256_S_d0_1 := by decide
  bcast_S_S8x256x32x32x16 := by decide
  reducesTo_S8x256x32x32x16_S_d0_1_2_3_4 := by decide
  bcast_S_S1x256x1x1x1 := by decide
  reducesTo_S1x256x1x1x1_S_d0_1_2_3_4 := by decide

section Decode
open Cert.Pre_clear_cut Cert.Pre_clear_cut.Facts
attribute [local instance] preFacts

variable (X : FVec Ideal S8x256x32x32x16 .f32) (G : FVec Ideal S_ .f32) (R : FVec Ideal S1x256x1x1x1 .f32)

/-- The low-pass part as the precondition spells it. -/
def preLow (tok : FVec Ideal S8x128x256 .f32) : FVec Ideal S8x128x256 .f32 :=
  Host.reduceAdd (mulf (broadcastInDim S8x128x256x256 ![0, 1, 2, 3] bcast_S8x128x1x256_S8x128x256x256_0_1_2_3
      (broadcastInDim S8x128x1x256 ![0, 1, 3] bcast_S8x128x256_S8x128x1x256_0_1_3 tok))
    (broadcastInDim S8x128x256x256 ![0, 1, 2, 3] bcast_S1x1x256x256_S8x128x256x256_0_1_2_3
      (broadcastInDim S1x1x256x256 ![2, 3] bcast_S256x256_S1x1x256x256_2_3
        (fun i => FloatOps.ofBits .f32 (lit0 (S256x256.rowMajor i))))))
    (constant S_ .f32 0x00000000#32) reducesTo_S8x128x256x256_S8x128x256_d3 h_S_

theorem preLow_eq : preLow (refTok X) = refLow X := by
  funext i
  rw [show i = ix3 (i 0) (i 1) (i 2) from (eq_ix3 i)]
  refine Eq.trans ?_ (refLow_at X (i 0) (i 1) (i 2)).symm
  unfold preLow
  rw [← table_pre, ← table_reference]
  generalize refTok X = tok
  pointwise

/-- The stability as the precondition spells it. -/
def preSt (tok low : FVec Ideal S8x128x256 .f32) : FVec Ideal S8x256x128 .f32 :=
  transpose S8x256x128 [0, 2, 1] (Host.divf (Host.absf low) (addf (Host.absf (subf low tok))
    (broadcastInDim S8x128x256 ![] bcast_S_S8x128x256 (constant S_ .f32 0x358637BD#32)))) transposes_S8x128x256_S8x256x128_0_2_1

theorem preSt_eq : preSt (refTok X) (preLow (refTok X)) = refSt X := by
  rw [preLow_eq]
  rfl

/-- Whether some token of a channel has exactly 45 tokens at or above it. -/
def preCut (st : FVec Ideal S8x256x128 .f32) : IVec S8x256 1 :=
  Host.reduce IntOp.ori (cmpi .eq (Host.reduce IntOp.addi (extui 32 (cmpf .oge
      (broadcastInDim S8x256x128x128 ![0, 1, 2, 3] bcast_S8x256x1x128_S8x256x128x128_0_1_2_3
        (broadcastInDim S8x256x1x128 ![0, 1, 3] bcast_S8x256x128_S8x256x1x128_0_1_3 st))
      (broadcastInDim S8x256x128x128 ![0, 1, 2, 3] bcast_S8x256x128x1_S8x256x128x128_0_1_2_3
        (broadcastInDim S8x256x128x1 ![0, 1, 2] bcast_S8x256x128_S8x256x128x1_0_1_2 st))) natLt_1_32)
      (constantI S_ 32 0#32) reducesTo_S8x256x128x128_S8x256x128_d3 h_S_)
    (broadcastInDim S8x256x128 ![] bcast_S_S8x256x128 (constantI S_ 32 45#32)))
    (constantI S_ 1 0#1) reducesTo_S8x256x128_S8x256_d2 h_S_

theorem fn_eq : fn (F := Ideal) X G R = andi (andi
    (Host.reduce IntOp.andi (cmpf .olt (Host.absf X) (broadcastInDim S8x256x32x32x16 ![] bcast_S_S8x256x32x32x16
      (constant S_ .f32 0x7F800000#32))) (constantI S_ 1 1#1) reducesTo_S8x256x32x32x16_S_d0_1_2_3_4 h_S_)
    (Host.reduce IntOp.andi (cmpf .olt (Host.absf R) (broadcastInDim S1x256x1x1x1 ![] bcast_S_S1x256x1x1x1
      (constant S_ .f32 0x7F800000#32))) (constantI S_ 1 1#1) reducesTo_S1x256x1x1x1_S_d0_1_2_3_4 h_S_))
    (Host.reduce IntOp.andi (preCut (preSt (refTok X) (preLow (refTok X)))) (constantI S_ 1 1#1) reducesTo_S8x256_S_d0_1 h_S_) := by
  rfl

theorem preCut_at (st : FVec Ideal S8x256x128 .f32) (n : Fin 8) (c : Fin 256) (h : preCut st (ix2 n c) = 1#1) :
    ∃ t₀ : Fin 128, (Finset.univ.filter fun v : Fin 128 => (st (ix3 n c t₀) : EReal) ≤ (st (ix3 n c v) : EReal)).card = 45 := by
  unfold preCut at h
  pointwise at h
  rw [fold_ori] at h
  obtain ⟨t₀, e⟩ := h
  refine ⟨t₀, ?_⟩
  rw [IndicatorCount.fold_addi_setWidth_eq_card] at e
  have e' := congrArg BitVec.toNat ((ofBool_decide _).1 e)
  rw [BitVec.toNat_ofNat] at e'
  have le : ∀ s : Finset (Fin 128), s.card ≤ 128 := fun s => (Finset.card_le_univ s).trans (by simp)
  rw [Nat.mod_eq_of_lt (lt_of_le_of_lt (le _) (by norm_num))] at e'
  rw [show (45#32 : BitVec 32).toNat = 45 from rfl] at e'
  rw [← e']
  refine congrArg Finset.card (Finset.filter_congr fun v _ => ?_)
  exact (ofBool_decide _).symm

theorem finite_of {x : EReal} (h : Ideal.cmp .olt (max x (-x)) ⊤ = 1#1) : ∃ r : ℝ, x = (r : EReal) := by
  have h' : max x (-x) < ⊤ := (ofBool_decide _).1 h
  induction x using EReal.rec with
  | bot => simp at h'
  | top => simp at h'
  | coe r => exact ⟨r, rfl⟩

/-- What the precondition says. -/
theorem pre_decode (h : fn (F := Ideal) X G R = fun _ => 1#1) :
    (∀ i, ∃ r : ℝ, (X i : EReal) = (r : EReal)) ∧ (∀ i, ∃ r : ℝ, (R i : EReal) = (r : EReal))
      ∧ ∀ (n : Fin 8) (c : Fin 256), ∃ t₀ : Fin 128, (Finset.univ.filter fun v : Fin 128 =>
          (refSt X (ix3 n c t₀) : EReal) ≤ (refSt X (ix3 n c v) : EReal)).card = 45 := by
  have h0 := (fn_eq X G R).symm.trans h
  have and_one : ∀ a b : BitVec 1, IntOp.andi a b = 1#1 → a = 1#1 ∧ b = 1#1 := by decide
  obtain ⟨h12, h3⟩ := and_one _ _ (congrFun h0 ix0)
  obtain ⟨h1, h2⟩ := and_one _ _ h12
  haveI : Subsingleton S_.Idx := ⟨fun a b => funext fun d => d.elim0⟩
  refine ⟨fun i => finite_of ?_, fun i => finite_of ?_, fun n c => ?_⟩
  · have e := Host.reduce_andi_all _ _ _ _ _ h1 i
    rw [← val_inf]; exact e
  · have e := Host.reduce_andi_all _ _ _ _ _ h2 i
    rw [← val_inf]; exact e
  · have e := Host.reduce_andi_all _ _ _ _ _ h3 (ix2 n c)
    rw [preSt_eq] at e
    exact preCut_at _ n c e

end Decode

end Cert.Proof.Value
end
-- ==== Proof.Value.KernelAt.lean ====
/-
  The kernel's arithmetic read at an index, over the extended reals.
-/
module

public import proofs.«01_k».proof.Proof.Value.PreAt

@[expose] public section

set_option maxRecDepth 16384

noncomputable section

namespace Cert.Proof.Value

open Cert.KernelIdeal Cert.KernelIdeal.Gen Cert.Proof.Ideal
open Idealize.ShloMosaic

theorem zero_word : Ideal.ofBits .f32 0x00000000#32 = 0 := by simp [Ideal.ofBits, Ideal.ieee]
theorem one_word : Ideal.ofBits .f32 0x3F800000#32 = 1 := by
  simp [Ideal.ofBits, Ideal.ieee, -EReal.coe_mul]; norm_num

theorem pay2_at (x : FVec Ideal S1x256x1x512 .f32) (pool : FVec Ideal S512x4 .f32) (c : Fin 256) (b : Fin 4) :
    (k0_pay2 (F := Ideal) x pool (ix2 c b) : EReal) = ∑ j : Fin 512, (x (ix4 0 c 0 j) : EReal) * (pool (ix2 j b) : EReal) := by
  unfold k0_pay2
  pointwise

theorem tokens_at (px : S256x32x512.Idx → Elt Ideal .f32) (pool : FVec Ideal S512x4 .f32) (c : Fin 256) (t : Fin 128) :
    (tokens (F := Ideal) px pool (ix2 c t) : EReal)
      = ∑ j : Fin 512, (px (ix3 c ⟨t.val / 4, by omega⟩ j) : EReal) * (pool (ix2 j ⟨t.val % 4, by omega⟩) : EReal) :=
  pay2_at _ _ _ _

/-- The share of the channels a token is selected in. -/
def kvote (b : IVec S256x128x128 1) (hi : IVec S256x1 32) (t : Fin 128) : EReal :=
  (∑ c : Fin 256, (if IntOp.cmpi .sgt (k0_pay42 b 1#32 0#32 (ix2 c t)) (hi (ix2 c 0)) = 1#1 then (1 : EReal) else 0))
    * ((1 / 256 : ℝ) : EReal)

theorem gate_at (b : IVec S256x128x128 1) (hi : IVec S256x1 32) (gs : Ideal .f32) (t : Fin 128) :
    (k0_pay49 (F := Ideal) b 1#32 0#32 hi gs (ix2 0 t) : EReal)
      = gateVal gs (kvote b hi t) (Ideal.div (∑ u : Fin 128, kvote b hi u) (Ideal.ofBits .f32 0x43000000#32)) := by
  unfold k0_pay49 gateVal kvote
  rw [← val_low, ← val_high, ← val_256th]
  generalize k0_pay42 b 1#32 0#32 = r
  pointwise
  simp only [select_if, Fin.sum_univ_one, Finset.univ_unique, Finset.sum_singleton]
  rw [min_comm, max_comm (Ideal.ofBits FTy.f32 1061158912#32)]
  rfl

theorem gRow_at (gate : FVec Ideal S1x128 .f32) (wr : FVec Ideal S4x512 .f32) (s : Fin 32) (z : Fin 512) :
    (gRow (F := Ideal) gate wr s (ix2 0 z) : EReal)
      = ∑ b : Fin 4, (gate (ix2 0 ⟨4 * s.val + b.val, by omega⟩) : EReal) * (wr (ix2 b z) : EReal) := by
  unfold gRow
  pointwise

theorem outRow_at (dsc : FVec Ideal S256x128 .f32) (wr : FVec Ideal S4x512 .f32) (j : Fin 4) (s : Fin 32)
    (x : FVec Ideal S1x64x1x512 .f32) (g : FVec Ideal S1x512 .f32) (i : Fin 64) (z : Fin 512) :
    (outRow (F := Ideal) dsc wr j s x g (ix4 0 i 0 z) : EReal) = (x (ix4 0 i 0 z) : EReal) * (g (ix2 0 z) : EReal)
      + ∑ b : Fin 4, (dsc (ix2 ⟨64 * j.val + i.val, by omega⟩ ⟨4 * s.val + b.val, by omega⟩) : EReal) * (wr (ix2 b z) : EReal) := by
  unfold outRow
  pointwise

theorem dsc_at (tok : FVec Ideal S256x128 .f32) (mt : FVec Ideal S256x256 .f32) (rs : FVec Ideal S256x1 .f32) (c : Fin 256) (t : Fin 128) :
    (dscOf (F := Ideal) tok mt rs (ix2 c t) : EReal)
      = ((k0_pay39 (F := Ideal) tok mt (ix2 c t) : EReal) - (tok (ix2 c t) : EReal)) * (rs (ix2 c 0) : EReal) := by
  unfold dscOf k0_pay51 k0_pay50 k0_pay40
  pointwise
  try rfl

end Cert.Proof.Value
end
-- ==== Proof.Value.Match.lean ====
/-
  The kernel's quantities are the reference's, one image at a time.
-/
module

public import proofs.«01_k».proof.Proof.Value.KernelAt

@[expose] public section

set_option maxRecDepth 16384

noncomputable section

namespace Cert.Proof.Value

open Cert.KernelIdeal Cert.KernelIdeal.Gen Cert.Proof.Ideal
open Idealize.ShloMosaic

/-- The row of the image a lane belongs to. -/
abbrev rowOf (z : Fin 512) : Fin 32 := ⟨z.val / 16, by omega⟩
/-- Its column. -/
abbrev colOf (z : Fin 512) : Fin 16 := ⟨z.val % 16, by omega⟩

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem olt_one (x y : EReal) : Ideal.cmp .olt x y = 1#1 ↔ x < y := ofBool_decide _

/-- Averaging a band at once and averaging its rows first agree. -/
theorem pooled (f : Fin 32 → Fin 16 → ℝ) (b : Fin 4) :
    (∑ j : Fin 512, f (rowOf j) (colOf j) * (if j.val / 128 = b.val then (1 / 128 : ℝ) else 0))
      = (∑ q : Fin 8, (∑ w : Fin 16, f ⟨b.val * 8 + q.val, by omega⟩ w) * (1 / 16)) * (1 / 8) := by
  rw [← Equiv.sum_comp (finProdFinEquiv : Fin 32 × Fin 16 ≃ Fin 512), Fintype.sum_prod_type]
  rw [← Equiv.sum_comp (finProdFinEquiv : Fin 4 × Fin 8 ≃ Fin 32), Fintype.sum_prod_type]
  rw [Finset.sum_eq_single b]
  · rw [Finset.sum_mul]
    refine Finset.sum_congr rfl fun q _ => ?_
    rw [Finset.sum_mul, Finset.sum_mul]
    refine Finset.sum_congr rfl fun w _ => ?_
    have e1 : (finProdFinEquiv ((finProdFinEquiv (b, q) : Fin 32), w) : Fin 512).val = w.val + 16 * (q.val + 8 * b.val) := rfl
    have hq := q.isLt
    have hw := w.isLt
    rw [if_pos (by rw [e1]; omega)]
    have e2 : rowOf (finProdFinEquiv ((finProdFinEquiv (b, q) : Fin 32), w) : Fin 512)
        = ⟨b.val * 8 + q.val, by omega⟩ := Fin.ext (by show _ / 16 = _; rw [e1]; show _ = b.val * 8 + q.val; omega)
    have e3 : colOf (finProdFinEquiv ((finProdFinEquiv (b, q) : Fin 32), w) : Fin 512) = w :=
      Fin.ext (by show _ % 16 = _; rw [e1]; omega)
    rw [e2, e3]; ring
  · intro b' _ hb
    refine Finset.sum_eq_zero fun q _ => Finset.sum_eq_zero fun w _ => ?_
    have e1 : (finProdFinEquiv ((finProdFinEquiv (b', q) : Fin 32), w) : Fin 512).val = w.val + 16 * (q.val + 8 * b'.val) := rfl
    have hq := q.isLt
    have hw := w.isLt
    have hb' : b'.val ≠ b.val := fun h => hb (Fin.ext h)
    rw [if_neg (by rw [e1]; omega), mul_zero]
  · simp

theorem real_between {a b : ℝ} {x : EReal} (h : (a : EReal) ≤ x) (h' : x ≤ (b : EReal)) : ∃ r : ℝ, x = (r : EReal) := by
  induction x using EReal.rec with
  | bot => exact absurd (le_bot_iff.1 h) (EReal.coe_ne_bot a)
  | top => exact absurd (top_le_iff.1 h') (EReal.coe_ne_top b)
  | coe r => exact ⟨r, rfl⟩

theorem gateVal_real (G v mean : EReal) : ∃ r : ℝ, gateVal G v mean = (r : EReal) := by
  refine real_between (a := 3 / 4) (b := 5 / 4) ?_ (min_le_right _ _)
  exact le_min (le_max_right _ _) (EReal.coe_le_coe_iff.2 (by norm_num))

/-- The two nonzero weights of a row pick its two bands. -/
theorem two_bands (γ : Fin 4 → ℝ) (h : Fin 32) :
    (∑ b : Fin 4, γ b * (((((if b = band0 h then part0 h else 0) + (if b = band1 h then 16 - part0 h else 0) : ℕ)) : ℝ) / 16))
      = γ (band0 h) * ((part0 h : ℝ) / 16) + γ (band1 h) * (((16 - part0 h : ℕ) : ℝ) / 16) := by
  simp only [Nat.cast_add, add_div, mul_add, Finset.sum_add_distrib, Nat.cast_ite, Nat.cast_zero, ite_div, zero_div, mul_ite, mul_zero,
    Finset.sum_ite_eq', Finset.mem_univ, if_true]

section
variable (X : FVec Ideal S8x256x32x32x16 .f32) (n : Fin 8) (px : S256x32x512.Idx → Elt Ideal .f32) (pool : FVec Ideal S512x4 .f32)
  (mt : FVec Ideal S256x256 .f32) (wr : FVec Ideal S4x512 .f32)

theorem tokens_match (hX : ∀ i, ∃ r : ℝ, (X i : EReal) = (r : EReal))
    (hpx : ∀ (c : Fin 256) (s : Fin 32) (j : Fin 512), (px (ix3 c s j) : EReal)
      = (X (ix5 n c s (rowOf j) (colOf j)) : EReal))
    (hpool : ∀ (j : Fin 512) (b : Fin 4), (pool (ix2 j b) : EReal) = (((if j.val / 128 = b.val then (1 / 128 : ℝ) else 0) : ℝ) : EReal))
    (c : Fin 256) (t : Fin 128) :
    (tokens (F := Ideal) px pool (ix2 c t) : EReal) = (refTok X (ix3 n t c) : EReal) ∧ ∃ r : ℝ, (refTok X (ix3 n t c) : EReal) = (r : EReal) := by
  choose xr hxr using hX
  have hR : (refTok X (ix3 n t c) : EReal) = (((∑ q : Fin 8, (∑ w : Fin 16,
      (fun (a : Fin 32) (w : Fin 16) => xr (ix5 n c ⟨t.val / 4, by omega⟩ a w)) ⟨(t.val % 4) * 8 + q.val, by omega⟩ w) * (1 / 16)) * (1 / 8) : ℝ) : EReal) := by
    rw [refTok_at]
    unfold tkn
    rw [Ideal.div_coe (by norm_num), EReal.coe_mul, coe_sum]
    refine congrArg (· * _) (Finset.sum_congr rfl fun q _ => ?_)
    rw [Ideal.div_coe (by norm_num), EReal.coe_mul, coe_sum]
    refine congrArg (· * _) (Finset.sum_congr rfl fun w _ => ?_)
    exact hxr _
  refine ⟨?_, _, hR⟩
  rw [hR, tokens_at, ← pooled (fun (a : Fin 32) (w : Fin 16) => xr (ix5 n c ⟨t.val / 4, by omega⟩ a w)) ⟨t.val % 4, by omega⟩, coe_sum]
  refine Finset.sum_congr rfl fun j _ => ?_
  rw [hpx, hpool, hxr, EReal.coe_mul]

variable (tok : FVec Ideal S256x128 .f32)
  (htok : ∀ (c : Fin 256) (t : Fin 128), (tok (ix2 c t) : EReal) = (refTok X (ix3 n t c) : EReal))
  (hmt : ∀ c k : Fin 256, (mt (ix2 c k) : EReal) = Ideal.ofBits .f32 (Cert.ReferenceIdeal.lit0 (S256x256.rowMajor (ix2 c k))))

include htok hmt in
theorem low_match (c : Fin 256) (t : Fin 128) :
    (k0_pay39 (F := Ideal) tok mt (ix2 c t) : EReal) = (refLow X (ix3 n t c) : EReal) := by
  rw [low_at, refLow_at]
  refine Finset.sum_congr rfl fun k _ => ?_
  rw [htok, hmt]
  exact mul_comm _ _

include htok hmt in
theorem below_match (c : Fin 256) (u : Fin 128) :
    belowCount (k0_pay41 (F := Ideal) tok mt) c u = rank (fun v => (refSt X (ix3 n c v) : EReal)) u := by
  unfold belowCount rank
  refine congrArg Finset.card (Finset.filter_congr fun v _ => ?_)
  rw [below_at, low_match X n mt tok htok hmt, low_match X n mt tok htok hmt, htok, htok, ← refSt_at, ← refSt_at]
  generalize refSt X = st
  exact olt_one (st (ix3 n c v)) (st (ix3 n c u))

variable (hcut : ∀ c : Fin 256, ∃ t₀ : Fin 128, (Finset.univ.filter fun v : Fin 128 =>
          (refSt X (ix3 n c t₀) : EReal) ≤ (refSt X (ix3 n c v) : EReal)).card = 45)

include htok hmt hcut in
theorem vote_match (t : Fin 128) :
    kvote (k0_pay41 (F := Ideal) tok mt) (bisect (k0_pay41 (F := Ideal) tok mt)).2 t = (refVote X (ix2 n t) : EReal) := by
  rw [refVote_at]
  unfold kvote
  suffices key : ∀ c : Fin 256, (if IntOp.cmpi .sgt (k0_pay42 (k0_pay41 (F := Ideal) tok mt) 1#32 0#32 (ix2 c t))
      ((bisect (k0_pay41 (F := Ideal) tok mt)).2 (ix2 c 0)) = 1#1 then (1 : EReal) else 0) = (refSel X (ix3 n c t) : EReal) by
    rw [Finset.sum_congr rfl fun c _ => key c]
  intro c
  obtain ⟨t₀, h⟩ := hcut c
  have hb : belowCount (k0_pay41 (F := Ideal) tok mt) c = rank (fun v => (refSt X (ix3 n c v) : EReal)) :=
    funext fun u => below_match X n mt tok htok hmt c u
  have ha : above (belowCount (k0_pay41 (F := Ideal) tok mt) c) 82 = 45 := by
    rw [hb, ← h]
    unfold above
    refine congrArg Finset.card (Finset.filter_congr fun u _ => ?_)
    exact (Nat.cast_lt (α := ℤ) (m := 82)).trans (rank_cut (fun v => (refSt X (ix3 n c v) : EReal)) t₀ h u)
  rw [refSel_at X n c t₀ t h]
  refine if_congr ((selected_at _ c ha t).trans ?_) rfl rfl
  rw [hb]
  exact rank_cut (fun v => (refSt X (ix3 n c v) : EReal)) t₀ h t

include htok hmt hcut in
theorem gate_match (G : FVec Ideal S_ .f32) (t : Fin 128) :
    (gateOf (F := Ideal) tok mt (G ix0) (ix2 0 t) : EReal) = (refGate X G (ix2 n t) : EReal) := by
  rw [refGate_at]
  unfold gateOf
  rw [gate_at]
  simp only [vote_match X n mt tok htok hmt hcut]

end

end Cert.Proof.Value
end
-- ==== Proof.Value.Chunk.lean ====
/-
  A chunk of the kernel's result is the reference's.
-/
module

public import proofs.«01_k».proof.Proof.Value.Match

@[expose] public section

set_option maxRecDepth 16384

noncomputable section

namespace Cert.Proof.Value

open Cert.KernelIdeal Cert.KernelIdeal.Gen Cert.Proof.Ideal
open Idealize.ShloMosaic

/-- A pattern whose exponent is not all ones names a real. -/
theorem ofBits_real (b : BitVec 32) (h : b.toNat / 8388608 % 256 ≠ 255) : ∃ r : ℝ, Ideal.ofBits .f32 b = (r : EReal) := by
  show ∃ r : ℝ, Ideal.ieee 8 23 b = (r : EReal)
  unfold Ideal.ieee
  have e : (b.extractLsb' 23 8).toNat = b.toNat / 8388608 % 256 := by
    rw [BitVec.extractLsb'_toNat, Nat.shiftRight_eq_div_pow]
  dsimp only
  rw [e, if_neg (show ¬ _ = 2 ^ 8 - 1 from h)]
  split
  · exact ⟨_, rfl⟩
  · exact ⟨_, rfl⟩

theorem sub_real {x y : EReal} (hx : ∃ r : ℝ, x = (r : EReal)) (hy : ∃ r : ℝ, y = (r : EReal)) : ∃ r : ℝ, x - y = (r : EReal) := by
  obtain ⟨a, rfl⟩ := hx
  obtain ⟨b, rfl⟩ := hy
  exact ⟨a - b, (EReal.coe_sub a b).symm⟩

/-- A row's value: the sums over the four bands reduce to the two that count, and the scale comes out. -/
theorem blend (x r : ℝ) (g d : Fin 4 → EReal) (hg : ∀ b, ∃ y : ℝ, g b = (y : EReal)) (hd : ∀ b, ∃ y : ℝ, d b = (y : EReal)) (w : Fin 4 → EReal)
    (h : Fin 32) (hw : ∀ b, w b = (((((if b = band0 h then part0 h else 0) + (if b = band1 h then 16 - part0 h else 0) : ℕ) : ℝ) / 16 : ℝ) : EReal)) :
    (x : EReal) * (∑ b : Fin 4, g b * w b) + ∑ b : Fin 4, (d b * (r : EReal)) * w b
      = (x : EReal) * (g (band0 h) * (((part0 h : ℝ) / 16 : ℝ) : EReal) + g (band1 h) * ((((16 - part0 h : ℕ) : ℝ) / 16 : ℝ) : EReal))
        + (r : EReal) * (d (band0 h) * (((part0 h : ℝ) / 16 : ℝ) : EReal) + d (band1 h) * ((((16 - part0 h : ℕ) : ℝ) / 16 : ℝ) : EReal)) := by
  choose γ hγ using hg
  choose δ hδ using hd
  simp only [hγ, hδ, hw]
  simp only [← EReal.coe_mul, ← coe_sum, ← EReal.coe_add]
  rw [two_bands γ h, two_bands (fun b => δ b * r) h]
  refine congrArg _ ?_
  ring

section
variable (X : FVec Ideal S8x256x32x32x16 .f32) (G : FVec Ideal S_ .f32) (R : FVec Ideal S1x256x1x1x1 .f32) (n : Fin 8)
  (px : S256x32x512.Idx → Elt Ideal .f32) (pool : FVec Ideal S512x4 .f32) (mt : FVec Ideal S256x256 .f32) (wr : FVec Ideal S4x512 .f32)
  (rs : FVec Ideal S256x1 .f32)

theorem chunk_at (j : Fin 4) (i : Fin 64) (s : Fin 32) (z : Fin 512) (gs : Ideal .f32) :
    (outChunk (F := Ideal) px mt pool wr rs gs j (ix3 i s z) : EReal)
      = (px (ix3 (chRow j i) s z) : EReal) * (∑ b : Fin 4, (gateOf (F := Ideal) (tokens px pool) mt gs (ix2 0 ⟨4 * s.val + b.val, by omega⟩) : EReal) * (wr (ix2 b z) : EReal))
        + ∑ b : Fin 4, (dscOf (F := Ideal) (tokens px pool) mt rs (ix2 (chRow j i) ⟨4 * s.val + b.val, by omega⟩) : EReal) * (wr (ix2 b z) : EReal) := by
  refine (outRow_at (dscOf (F := Ideal) (tokens px pool) mt rs) wr j s (fun k => px (ix3 (chRow j (k 1)) s (k 3 : Fin 512)))
    (gRow (gateOf (F := Ideal) (tokens px pool) mt gs) wr s) i z).trans ?_
  rw [gRow_at]
  rfl

variable (hX : ∀ i, ∃ r : ℝ, (X i : EReal) = (r : EReal)) (hR : ∀ i, ∃ r : ℝ, (R i : EReal) = (r : EReal))
    (hcut : ∀ c : Fin 256, ∃ t₀ : Fin 128, (Finset.univ.filter fun v : Fin 128 =>
          (refSt X (ix3 n c t₀) : EReal) ≤ (refSt X (ix3 n c v) : EReal)).card = 45)
    (htab : ∀ i, ∃ r : ℝ, Ideal.ofBits .f32 (Cert.ReferenceIdeal.lit0 i) = (r : EReal))
    (hpx : ∀ (c : Fin 256) (s : Fin 32) (j : Fin 512), (px (ix3 c s j) : EReal)
      = (X (ix5 n c s (rowOf j) (colOf j)) : EReal))
    (hpool : ∀ (j : Fin 512) (b : Fin 4), (pool (ix2 j b) : EReal) = (((if j.val / 128 = b.val then (1 / 128 : ℝ) else 0) : ℝ) : EReal))
    (hmt : ∀ c k : Fin 256, (mt (ix2 c k) : EReal) = Ideal.ofBits .f32 (Cert.ReferenceIdeal.lit0 (S256x256.rowMajor (ix2 c k))))
    (hwr : ∀ (b : Fin 4) (z : Fin 512), (wr (ix2 b z) : EReal) = (((((if b = band0 (rowOf z) then part0 (rowOf z) else 0)
      + (if b = band1 (rowOf z) then 16 - part0 (rowOf z) else 0) : ℕ) : ℝ) / 16 : ℝ) : EReal))
    (hrs : ∀ c : Fin 256, (rs (ix2 c 0) : EReal) = (R (ix5 0 c 0 0 0) : EReal))

include hX htab hpx hpool in
theorem diff_real (c : Fin 256) (s : Fin 32) (b : Fin 4) : ∃ r : ℝ, (refDiff X (ix4 n c s b) : EReal) = (r : EReal) := by
  have ht : ∀ (t : Fin 128) (c : Fin 256), ∃ r : ℝ, (refTok X (ix3 n t c) : EReal) = (r : EReal) :=
    fun t c => (tokens_match X n px pool hX hpx hpool c t).2
  rw [refDiff_at]
  refine sub_real ?_ (ht _ _)
  rw [refLow_at]
  choose f hf using ht
  choose g hg using htab
  refine ⟨∑ k : Fin 256, f ⟨s.val * 4 + b.val, by omega⟩ k * g (S256x256.rowMajor (ix2 c k)), ?_⟩
  rw [coe_sum]
  refine Finset.sum_congr rfl fun k _ => ?_
  rw [hf, EReal.coe_mul]
  exact congrArg _ (hg _)

include hX hR hcut htab hpx hpool hmt hwr hrs in
theorem chunk_match (j : Fin 4) (i : Fin 64) (s : Fin 32) (z : Fin 512) :
    (outChunk (F := Ideal) px mt pool wr rs (G ix0) j (ix3 i s z) : EReal)
      = (refOut X G R (ix5 n (chRow j i) s (rowOf z) (colOf z)) : EReal) := by
  have htok : ∀ (c : Fin 256) (t : Fin 128), (tokens (F := Ideal) px pool (ix2 c t) : EReal) = (refTok X (ix3 n t c) : EReal) :=
    fun c t => (tokens_match X n px pool hX hpx hpool c t).1
  have hg : ∀ b : Fin 4, (gateOf (F := Ideal) (tokens px pool) mt (G ix0) (ix2 0 ⟨4 * s.val + b.val, by omega⟩) : EReal)
      = (refGate X G (ix2 n ⟨s.val * 4 + b.val, by omega⟩) : EReal) := fun b =>
    (gate_match X n mt _ htok hmt hcut G _).trans
      (congrArg (fun t => (refGate X G (ix2 n t) : EReal)) (Fin.ext (by show 4 * s.val + b.val = s.val * 4 + b.val; omega)))
  have hd : ∀ b : Fin 4, (dscOf (F := Ideal) (tokens px pool) mt rs (ix2 (chRow j i) ⟨4 * s.val + b.val, by omega⟩) : EReal)
      = (refDiff X (ix4 n (chRow j i) s b) : EReal) * (R (ix5 0 (chRow j i) 0 0 0) : EReal) := by
    intro b
    rw [dsc_at, hrs, low_match X n mt _ htok hmt, htok, refDiff_at]
    have e : (⟨4 * s.val + b.val, by omega⟩ : Fin 128) = ⟨s.val * 4 + b.val, by omega⟩ :=
      Fin.ext (by show 4 * s.val + b.val = s.val * 4 + b.val; omega)
    rw [e]
  rw [chunk_at, refOut_at, refGateRow_at, refDiffRow_at, hpx, Finset.sum_congr rfl fun b _ => congrArg (· * (wr (ix2 b z) : EReal)) (hg b),
    Finset.sum_congr rfl fun b _ => congrArg (· * (wr (ix2 b z) : EReal)) (hd b)]
  obtain ⟨x, hx⟩ := hX (ix5 n (chRow j i) s (rowOf z) (colOf z))
  obtain ⟨r, hr⟩ := hR (ix5 0 (chRow j i) 0 0 0)
  rw [hx, hr]
  refine blend x r (fun b => (refGate X G (ix2 n ⟨s.val * 4 + b.val, by omega⟩) : EReal)) (fun b => (refDiff X (ix4 n (chRow j i) s b) : EReal))
    (fun b => ?_) (fun b => diff_real X n px pool hX htab hpx hpool _ _ _) (fun b => (wr (ix2 b z) : EReal)) (rowOf z) (fun b => hwr b z)
  show ∃ y : ℝ, (refGate X G (ix2 n ⟨s.val * 4 + b.val, by omega⟩) : EReal) = (y : EReal)
  rw [refGate_at]
  exact gateVal_real _ _ _

end

end Cert.Proof.Value
end
-- ==== Proof.Value.Rows0.lean ====
/-
  No entry of the low-pass filter is infinite: rows 0 to 63.
-/
module

public import proofs.«01_k».proof.KernelIdeal

@[expose] public section

namespace Cert.Proof.Value

open Idealize.ShloMosaic

theorem rows0 : ∀ (a : Fin 8) (b : Fin 256),
    ((Cert.KernelIdeal.lit0 ⟨256 * (8 * 0 + a.val) + b.val, by omega⟩).toNat / 8388608) % 256 ≠ 255 := by decide +kernel
theorem rows1 : ∀ (a : Fin 8) (b : Fin 256),
    ((Cert.KernelIdeal.lit0 ⟨256 * (8 * 1 + a.val) + b.val, by omega⟩).toNat / 8388608) % 256 ≠ 255 := by decide +kernel
theorem rows2 : ∀ (a : Fin 8) (b : Fin 256),
    ((Cert.KernelIdeal.lit0 ⟨256 * (8 * 2 + a.val) + b.val, by omega⟩).toNat / 8388608) % 256 ≠ 255 := by decide +kernel
theorem rows3 : ∀ (a : Fin 8) (b : Fin 256),
    ((Cert.KernelIdeal.lit0 ⟨256 * (8 * 3 + a.val) + b.val, by omega⟩).toNat / 8388608) % 256 ≠ 255 := by decide +kernel
theorem rows4 : ∀ (a : Fin 8) (b : Fin 256),
    ((Cert.KernelIdeal.lit0 ⟨256 * (8 * 4 + a.val) + b.val, by omega⟩).toNat / 8388608) % 256 ≠ 255 := by decide +kernel
theorem rows5 : ∀ (a : Fin 8) (b : Fin 256),
    ((Cert.KernelIdeal.lit0 ⟨256 * (8 * 5 + a.val) + b.val, by omega⟩).toNat / 8388608) % 256 ≠ 255 := by decide +kernel
theorem rows6 : ∀ (a : Fin 8) (b : Fin 256),
    ((Cert.KernelIdeal.lit0 ⟨256 * (8 * 6 + a.val) + b.val, by omega⟩).toNat / 8388608) % 256 ≠ 255 := by decide +kernel
theorem rows7 : ∀ (a : Fin 8) (b : Fin 256),
    ((Cert.KernelIdeal.lit0 ⟨256 * (8 * 7 + a.val) + b.val, by omega⟩).toNat / 8388608) % 256 ≠ 255 := by decide +kernel

end Cert.Proof.Value
-- ==== Proof.Value.Rows1.lean ====
/-
  No entry of the low-pass filter is infinite: rows 64 to 127.
-/
module

public import proofs.«01_k».proof.KernelIdeal

@[expose] public section

namespace Cert.Proof.Value

open Idealize.ShloMosaic

theorem rows8 : ∀ (a : Fin 8) (b : Fin 256),
    ((Cert.KernelIdeal.lit0 ⟨256 * (8 * 8 + a.val) + b.val, by omega⟩).toNat / 8388608) % 256 ≠ 255 := by decide +kernel
theorem rows9 : ∀ (a : Fin 8) (b : Fin 256),
    ((Cert.KernelIdeal.lit0 ⟨256 * (8 * 9 + a.val) + b.val, by omega⟩).toNat / 8388608) % 256 ≠ 255 := by decide +kernel
theorem rows10 : ∀ (a : Fin 8) (b : Fin 256),
    ((Cert.KernelIdeal.lit0 ⟨256 * (8 * 10 + a.val) + b.val, by omega⟩).toNat / 8388608) % 256 ≠ 255 := by decide +kernel
theorem rows11 : ∀ (a : Fin 8) (b : Fin 256),
    ((Cert.KernelIdeal.lit0 ⟨256 * (8 * 11 + a.val) + b.val, by omega⟩).toNat / 8388608) % 256 ≠ 255 := by decide +kernel
theorem rows12 : ∀ (a : Fin 8) (b : Fin 256),
    ((Cert.KernelIdeal.lit0 ⟨256 * (8 * 12 + a.val) + b.val, by omega⟩).toNat / 8388608) % 256 ≠ 255 := by decide +kernel
theorem rows13 : ∀ (a : Fin 8) (b : Fin 256),
    ((Cert.KernelIdeal.lit0 ⟨256 * (8 * 13 + a.val) + b.val, by omega⟩).toNat / 8388608) % 256 ≠ 255 := by decide +kernel
theorem rows14 : ∀ (a : Fin 8) (b : Fin 256),
    ((Cert.KernelIdeal.lit0 ⟨256 * (8 * 14 + a.val) + b.val, by omega⟩).toNat / 8388608) % 256 ≠ 255 := by decide +kernel
theorem rows15 : ∀ (a : Fin 8) (b : Fin 256),
    ((Cert.KernelIdeal.lit0 ⟨256 * (8 * 15 + a.val) + b.val, by omega⟩).toNat / 8388608) % 256 ≠ 255 := by decide +kernel

end Cert.Proof.Value
-- ==== Proof.Value.Rows2.lean ====
/-
  No entry of the low-pass filter is infinite: rows 128 to 191.
-/
module

public import proofs.«01_k».proof.KernelIdeal

@[expose] public section

namespace Cert.Proof.Value

open Idealize.ShloMosaic

theorem rows16 : ∀ (a : Fin 8) (b : Fin 256),
    ((Cert.KernelIdeal.lit0 ⟨256 * (8 * 16 + a.val) + b.val, by omega⟩).toNat / 8388608) % 256 ≠ 255 := by decide +kernel
theorem rows17 : ∀ (a : Fin 8) (b : Fin 256),
    ((Cert.KernelIdeal.lit0 ⟨256 * (8 * 17 + a.val) + b.val, by omega⟩).toNat / 8388608) % 256 ≠ 255 := by decide +kernel
theorem rows18 : ∀ (a : Fin 8) (b : Fin 256),
    ((Cert.KernelIdeal.lit0 ⟨256 * (8 * 18 + a.val) + b.val, by omega⟩).toNat / 8388608) % 256 ≠ 255 := by decide +kernel
theorem rows19 : ∀ (a : Fin 8) (b : Fin 256),
    ((Cert.KernelIdeal.lit0 ⟨256 * (8 * 19 + a.val) + b.val, by omega⟩).toNat / 8388608) % 256 ≠ 255 := by decide +kernel
theorem rows20 : ∀ (a : Fin 8) (b : Fin 256),
    ((Cert.KernelIdeal.lit0 ⟨256 * (8 * 20 + a.val) + b.val, by omega⟩).toNat / 8388608) % 256 ≠ 255 := by decide +kernel
theorem rows21 : ∀ (a : Fin 8) (b : Fin 256),
    ((Cert.KernelIdeal.lit0 ⟨256 * (8 * 21 + a.val) + b.val, by omega⟩).toNat / 8388608) % 256 ≠ 255 := by decide +kernel
theorem rows22 : ∀ (a : Fin 8) (b : Fin 256),
    ((Cert.KernelIdeal.lit0 ⟨256 * (8 * 22 + a.val) + b.val, by omega⟩).toNat / 8388608) % 256 ≠ 255 := by decide +kernel
theorem rows23 : ∀ (a : Fin 8) (b : Fin 256),
    ((Cert.KernelIdeal.lit0 ⟨256 * (8 * 23 + a.val) + b.val, by omega⟩).toNat / 8388608) % 256 ≠ 255 := by decide +kernel

end Cert.Proof.Value
-- ==== Proof.Value.Rows3.lean ====
/-
  No entry of the low-pass filter is infinite: rows 192 to 255.
-/
module

public import proofs.«01_k».proof.KernelIdeal

@[expose] public section

namespace Cert.Proof.Value

open Idealize.ShloMosaic

theorem rows24 : ∀ (a : Fin 8) (b : Fin 256),
    ((Cert.KernelIdeal.lit0 ⟨256 * (8 * 24 + a.val) + b.val, by omega⟩).toNat / 8388608) % 256 ≠ 255 := by decide +kernel
theorem rows25 : ∀ (a : Fin 8) (b : Fin 256),
    ((Cert.KernelIdeal.lit0 ⟨256 * (8 * 25 + a.val) + b.val, by omega⟩).toNat / 8388608) % 256 ≠ 255 := by decide +kernel
theorem rows26 : ∀ (a : Fin 8) (b : Fin 256),
    ((Cert.KernelIdeal.lit0 ⟨256 * (8 * 26 + a.val) + b.val, by omega⟩).toNat / 8388608) % 256 ≠ 255 := by decide +kernel
theorem rows27 : ∀ (a : Fin 8) (b : Fin 256),
    ((Cert.KernelIdeal.lit0 ⟨256 * (8 * 27 + a.val) + b.val, by omega⟩).toNat / 8388608) % 256 ≠ 255 := by decide +kernel
theorem rows28 : ∀ (a : Fin 8) (b : Fin 256),
    ((Cert.KernelIdeal.lit0 ⟨256 * (8 * 28 + a.val) + b.val, by omega⟩).toNat / 8388608) % 256 ≠ 255 := by decide +kernel
theorem rows29 : ∀ (a : Fin 8) (b : Fin 256),
    ((Cert.KernelIdeal.lit0 ⟨256 * (8 * 29 + a.val) + b.val, by omega⟩).toNat / 8388608) % 256 ≠ 255 := by decide +kernel
theorem rows30 : ∀ (a : Fin 8) (b : Fin 256),
    ((Cert.KernelIdeal.lit0 ⟨256 * (8 * 30 + a.val) + b.val, by omega⟩).toNat / 8388608) % 256 ≠ 255 := by decide +kernel
theorem rows31 : ∀ (a : Fin 8) (b : Fin 256),
    ((Cert.KernelIdeal.lit0 ⟨256 * (8 * 31 + a.val) + b.val, by omega⟩).toNat / 8388608) % 256 ≠ 255 := by decide +kernel

end Cert.Proof.Value
-- ==== Proof.Value.Result.lean ====
/-
  The kernel's result is the reference's.
-/
module

public import proofs.«01_k».proof.Proof.Value.Chunk
public import proofs.«01_k».proof.Proof.Value.Rows0
public import proofs.«01_k».proof.Proof.Value.Rows1
public import proofs.«01_k».proof.Proof.Value.Rows2
public import proofs.«01_k».proof.Proof.Value.Rows3

@[expose] public section

set_option maxRecDepth 16384

noncomputable section

namespace Cert.Proof.Value

open Cert.KernelIdeal Cert.KernelIdeal.Gen Cert.Proof.Ideal
open Idealize.ShloMosaic

/-- No entry of rows `8 k` to `8 k + 7` has an exponent of all ones. -/
def RowsReal (k : ℕ) (hk : k < 32) : Prop := ∀ (a : Fin 8) (b : Fin 256),
  ((Cert.KernelIdeal.lit0 ⟨256 * (8 * k + a.val) + b.val, by omega⟩).toNat / 8388608) % 256 ≠ 255

theorem rows_real : ∀ (k : ℕ) (hk : k < 32), RowsReal k hk
  | 0, _ => rows0
  | 1, _ => rows1
  | 2, _ => rows2
  | 3, _ => rows3
  | 4, _ => rows4
  | 5, _ => rows5
  | 6, _ => rows6
  | 7, _ => rows7
  | 8, _ => rows8
  | 9, _ => rows9
  | 10, _ => rows10
  | 11, _ => rows11
  | 12, _ => rows12
  | 13, _ => rows13
  | 14, _ => rows14
  | 15, _ => rows15
  | 16, _ => rows16
  | 17, _ => rows17
  | 18, _ => rows18
  | 19, _ => rows19
  | 20, _ => rows20
  | 21, _ => rows21
  | 22, _ => rows22
  | 23, _ => rows23
  | 24, _ => rows24
  | 25, _ => rows25
  | 26, _ => rows26
  | 27, _ => rows27
  | 28, _ => rows28
  | 29, _ => rows29
  | 30, _ => rows30
  | 31, _ => rows31
  | k + 32, h => absurd h (by omega)

theorem table_real (i : Fin 65536) : ∃ r : ℝ, Ideal.ofBits .f32 (Cert.ReferenceIdeal.lit0 i) = (r : EReal) := by
  rw [← table_reference]
  have h := rows_real (i.val / 2048) (by omega) ⟨i.val / 256 % 8, by omega⟩ ⟨i.val % 256, by omega⟩
  have e : (⟨256 * (8 * (i.val / 2048) + i.val / 256 % 8) + i.val % 256, by omega⟩ : Fin 65536) = i :=
    Fin.ext (by show 256 * (8 * (i.val / 2048) + i.val / 256 % 8) + i.val % 256 = i.val; omega)
  rw [← e]
  exact ofBits_real _ h

section
variable (m : (ℓ : Loc nD τ sig) → Buf (Elt Ideal) ℓ) (c : Dev nD)

theorem xblk_emb (q : Fin 8) (a : Fin 256) (s : Fin 32) (d : Fin 512) :
    ((xblk q).view.emb (ix3 a s d) : S8x256x32x512.Idx) = ix4 q a s d := by
  have h1 : ((xblk q).view.emb (ix3 a s d) : S8x256x32x512.Idx)
      = (Rect.unit (s := S8x256x32x512) (xbOff q) S1x256x32x512.size (xbOff_inb q)).emb (Shape.reshapeEquiv squeezes_S1x256x32x512_S256x32x512.numel_eq (ix3 a s d)) := rfl
  rw [h1, Shape.reshapeEquiv_cons_one]
  funext e
  apply Fin.ext
  rw [Rect.emb_apply]
  match e with
  | ⟨0, _⟩ => rfl
  | ⟨1, _⟩ => show 0 + 1 * a.val = a.val; omega
  | ⟨2, _⟩ => show 0 + 1 * s.val = s.val; omega
  | ⟨3, _⟩ => show 0 + 1 * d.val = d.val; omega

/-- The kernel's first argument. -/
abbrev argX : FVec Ideal S8x256x32x32x16 .f32 := m ((c.tc : Thread nD τ).loc main_arg0)
/-- Its second. -/
abbrev argG : FVec Ideal S_ .f32 := m ((c.tc : Thread nD τ).loc main_arg1)
/-- Its third. -/
abbrev argR : FVec Ideal S1x256x1x1x1 .f32 := m ((c.tc : Thread nD τ).loc main_arg2)

theorem image_at (q : Fin 8) (a : Fin 256) (s : Fin 32) (j : Fin 512) :
    (xpay c (XAm m c) q (ix3 a s j) : EReal) = (argX m c (ix5 q a s (rowOf j) (colOf j)) : EReal) := by
  have h1 : (xpay c (XAm m c) q (ix3 a s j) : EReal) = (XAm m c : S8x256x32x512.Idx → EReal) ((xblk q).view.emb (ix3 a s j)) := rfl
  rw [h1, xblk_emb]
  refine (congrFun (V_v0 m c) (ix4 q a s j)).trans ?_
  pointwise

theorem filter_at (a b : Fin 256) :
    (mtm m c (ix2 a b) : EReal) = Ideal.ofBits .f32 (Cert.ReferenceIdeal.lit0 (S256x256.rowMajor (ix2 a b))) := by
  refine (congrFun (V_cst m c) (ix2 a b)).trans ?_
  exact congrArg (Ideal.ofBits .f32) (congrFun table_reference _)

theorem pool_at (j : Fin 512) (b : Fin 4) :
    (poolm m c (ix2 j b) : EReal) = (((if j.val / 128 = b.val then (1 / 128 : ℝ) else 0) : ℝ) : EReal) := by
  refine (congrFun (V_cst_0 m c) (ix2 j b)).trans ?_
  have e : S512x4.rowMajor (ix2 j b) = (⟨4 * j.val + b.val, by omega⟩ : Fin 2048) := Fin.ext ((rowMajor_val2 _ 4 rfl).trans (by show j.val * 4 + b.val = 4 * j.val + b.val; omega))
  show Ideal.ofBits .f32 (lit1 (S512x4.rowMajor (ix2 j b))) = _
  rw [e, ker_pool]
  split
  · exact val_128th
  · exact zero_word

theorem weight_at (b : Fin 4) (z : Fin 512) :
    (wrm m c (ix2 b z) : EReal) = (((((if b = band0 (rowOf z) then part0 (rowOf z) else 0)
      + (if b = band1 (rowOf z) then 16 - part0 (rowOf z) else 0) : ℕ) : ℝ) / 16 : ℝ) : EReal) := by
  refine (congrFun (V_cst_1 m c) (ix2 b z)).trans ?_
  have e : S4x512.rowMajor (ix2 b z) = ⟨512 * b.val + (16 * (rowOf z).val + (colOf z).val), by
      show 512 * b.val + (16 * (z.val / 16) + z.val % 16) < 2048; omega⟩ :=
    Fin.ext ((rowMajor_val2 _ 512 rfl).trans (by show b.val * 512 + z.val = 512 * b.val + (16 * (z.val / 16) + z.val % 16); omega))
  show Ideal.ofBits .f32 (lit2 (S4x512.rowMajor (ix2 b z))) = _
  rw [e, ker_part]
  refine pat_value _ ?_
  have h := part0_le (rowOf z)
  generalize part0 (rowOf z) = p at h ⊢
  split <;> split <;> omega

theorem scale_at (a : Fin 256) : (rsm m c (ix2 a 0) : EReal) = (argR m c (ix5 0 a 0 0 0) : EReal) := by
  refine (congrFun (V_v1 m c) (ix2 a 0)).trans ?_
  pointwise

theorem strength_at : (gsm m c : EReal) = (argG m c ix0 : EReal) := by
  have h1 : (gsm m c : EReal) = (V m c main_call0_v2 : FVec Ideal S1x1 .f32) (ix2 0 0) := rfl
  rw [h1]
  refine (congrFun (V_v2 m c) (ix2 0 0)).trans ?_
  pointwise

attribute [local instance] preFacts in
theorem result_at (h : Cert.Pre_clear_cut.fn (F := Ideal) (argX m c) (argG m c) (argR m c) = fun _ => 1#1)
    (n : Fin 8) (a : Fin 256) (s u : Fin 32) (w : Fin 16) :
    (resultV m c (ix5 n a s u w) : EReal) = (refOut (argX m c) (argG m c) (argR m c) (ix5 n a s u w) : EReal) := by
  obtain ⟨hX, hR, hcut⟩ := pre_decode _ _ _ h
  have h1 : (resultV m c (ix5 n a s u w) : EReal) = (finalO m c (ix4 n a s ⟨16 * u.val + w.val, by omega⟩) : EReal) := by
    unfold resultV
    pointwise
    exact congrArg (fun k : Fin 512 => (finalO m c (ix4 n a s k) : EReal)) (Fin.ext (by show u.val * 16 + w.val = 16 * u.val + w.val; omega))
  refine h1.trans ?_
  have h2 := chunk_match (argX m c) (argG m c) (argR m c) n (xpay c (XAm m c) n) (poolm m c) (mtm m c) (wrm m c) (rsm m c)
    hX hR (hcut n) table_real (image_at m c n) (pool_at m c) (filter_at m c) (weight_at m c) (scale_at m c)
    ⟨a.val / 64, by omega⟩ ⟨a.val % 64, by omega⟩ s ⟨16 * u.val + w.val, by omega⟩
  refine Eq.trans ?_ (h2.trans ?_)
  · exact congrArg (fun g : Ideal .f32 => (outChunk (xpay c (XAm m c) n) (mtm m c) (poolm m c) (wrm m c) (rsm m c) g
      ⟨a.val / 64, by omega⟩ (ix3 ⟨a.val % 64, by omega⟩ s ⟨16 * u.val + w.val, by omega⟩) : EReal)) (strength_at m c)
  · have e1 : chRow ⟨a.val / 64, by omega⟩ ⟨a.val % 64, by omega⟩ = a := Fin.ext (Nat.div_add_mod a.val 64)
    have e2 : rowOf ⟨16 * u.val + w.val, by omega⟩ = u := Fin.ext (by show (16 * u.val + w.val) / 16 = u.val; omega)
    have e3 : colOf ⟨16 * u.val + w.val, by omega⟩ = w := Fin.ext (by show (16 * u.val + w.val) % 16 = w.val; omega)
    rw [e1, e2, e3]

attribute [local instance] preFacts in
theorem result_eq (h : Cert.Pre_clear_cut.fn (F := Ideal) (argX m c) (argG m c) (argR m c) = fun _ => 1#1) :
    resultV m c = refOut (argX m c) (argG m c) (argR m c) := by
  funext i
  rw [eq_ix5 i]
  exact result_at m c h _ _ _ _ _

end

end Cert.Proof.Value
end
-- ==== Proof.lean ====
/-
  `Cert.Claim`: the frames of the fused kernel at machine words and over the reals, the frame of the reference, that
  the two printings of the kernel are one program, and that its result is the reference's.
-/
module

public import proofs.«01_k».proof.Defs
public import proofs.«01_k».proof.Proof.Gen.ReferenceIdeal
public import proofs.«01_k».proof.Proof.Gen.ReferenceIdeal.Run
public import proofs.«01_k».proof.Proof.Bits.Outcome
public import proofs.«01_k».proof.Proof.Value.Result
public import Idealize.ShloMosaic.Adequacy
public import Idealize.ShloMosaic.Init

@[expose] public section

noncomputable section

namespace Cert.Proof

open Idealize.ShloMosaic Idealize.SL.Sem

/-- The kernel at machine words returns, leaves its arguments alone and every counter at zero. -/
theorem kernel_frame : Cert.quiescent_Kernel := fun m g _ => Bits.run_frame m g
/-- The same over the extended reals. -/
theorem kernelIdeal_frame : Cert.quiescent_KernelIdeal := fun m g _ => Ideal.run_frame m g
/-- The reference is host operations only and has no counter. -/
theorem referenceIdeal_frame : Cert.quiescent_ReferenceIdeal := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- The same two frames, on the inputs the precondition admits. -/
theorem kernelIdeal_frame_cut : @Cert.quiescent_KernelIdeal_pre_clear_cut Cert.KernelIdeal.Gen.facts Value.preFacts :=
  fun m g _ => Ideal.run_frame m g
theorem referenceIdeal_frame_cut : @Cert.quiescent_ReferenceIdeal_pre_clear_cut Cert.ReferenceIdeal.Gen.facts Value.preFacts :=
  fun m g _ => referenceIdeal_frame m g trivial

/-- Over the extended reals the kernel's result is the reference's, wherever the selection has a clear cut. -/
theorem value : @Cert.algebraic_KernelIdeal_ReferenceIdeal_pre_clear_cut Cert.KernelIdeal.Gen.facts Cert.ReferenceIdeal.Gen.facts
    Value.preFacts := fun m g m' g' hpre hargs => by
  refine ⟨fun c => Ideal.resultV m c,
    (θ_run Cert.KernelIdeal.defs _ _).mono (fun r h => h.1) (Ideal.run_outcome m g),
    (θ_run Cert.ReferenceIdeal.defs _ _).mono (fun r h c => ?_) (Cert.ReferenceIdeal.Value.run (F := Ideal) m' g')⟩
  obtain ⟨h0, h1, h2⟩ := hargs c
  refine ⟨(h c).1.trans ?_, (h c).2⟩
  rw [Value.refOut_eq, h0, h1, h2]
  exact (Value.result_eq m c (hpre c)).symm

theorem claim : Cert.Claim := ⟨Cert.Kernel.Gen.facts, Cert.KernelIdeal.Gen.facts, Cert.ReferenceIdeal.Gen.facts, Value.preFacts,
  kernel_frame, kernelIdeal_frame, kernelIdeal_frame_cut, referenceIdeal_frame, referenceIdeal_frame_cut, trivial, value⟩

end Cert.Proof

end
